-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_batch_sorted [hPre_batch_sorted : Cert.Pre_batch_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_batch_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_sorted [hPre_batch_sorted : Cert.Pre_batch_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_batch_sorted [hKernelIdeal : Cert.KernelIdeal.Facts] [hPre_batch_sorted : Cert.Pre_batch_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_batch_sorted m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_batch_sorted [hReferenceIdeal : Cert.ReferenceIdeal.Facts] [hPre_batch_sorted : Cert.Pre_batch_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_batch_sorted [hKernelIdeal : Cert.KernelIdeal.Facts] [hReferenceIdeal : Cert.ReferenceIdeal.Facts] [hPre_batch_sorted : Cert.Pre_batch_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_batch_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_batch_sorted : Cert.Pre_batch_sorted.Facts),
    quiescent_Kernel (hKernel := hKernel)
    ∧ quiescent_KernelIdeal (hKernelIdeal := hKernelIdeal)
    ∧ quiescent_KernelIdeal_pre_batch_sorted (hKernelIdeal := hKernelIdeal) (hPre_batch_sorted := hPre_batch_sorted)
    ∧ quiescent_ReferenceIdeal (hReferenceIdeal := hReferenceIdeal)
    ∧ quiescent_ReferenceIdeal_pre_batch_sorted (hReferenceIdeal := hReferenceIdeal) (hPre_batch_sorted := hPre_batch_sorted)
    ∧ preserves_Kernel_KernelIdeal
    ∧ algebraic_KernelIdeal_ReferenceIdeal_pre_batch_sorted (hKernelIdeal := hKernelIdeal) (hReferenceIdeal := hReferenceIdeal) (hPre_batch_sorted := hPre_batch_sorted)
-- ==== Pre_batch_sorted.lean ====
abbrev S100000x512 : Shape := ⟨2, ![100000, 512]⟩
abbrev S100000 : Shape := ⟨1, ![100000]⟩
abbrev S3 : Shape := ⟨1, ![3]⟩
abbrev S512x1536 : Shape := ⟨2, ![512, 1536]⟩
abbrev S512 : Shape := ⟨1, ![512]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_

variable [Facts]

def fn {F : FTy → Type} [FloatOps F] (main_arg0 : FVec F S100000x512 .f32) (main_arg1 : IVec S100000 32) (main_arg2 : FVec F S3 .f32) (main_arg3 : FVec F S512x1536 .f32) (main_arg4 : FVec F S512 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 256#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_v7 : IVec S99999 32 := (extractStridedSlice S99999 ![0] · slices_S100000_S99999_0) main_arg1
  let main_v8 : IVec S99999 32 := (extractStridedSlice S99999 ![1] · slices_S100000_S99999_1) main_arg1
  let main_v9 : IVec S99999 1 := cmpi .sle main_v7 main_v8
  let main_c_3 : IVec S_ 1 := constantI S_ 1 1#1
  let main_v10 : IVec S_ 1 := (fun x v => Host.reduce IntOp.andi x v reducesTo_S99999_S_d0 h_S_) main_v9 main_c_3
  let main_v11 : IVec S_ 1 := andi main_v6 main_v10
  main_v11
-- ==== Kernel.lean ====
abbrev S100000x512 : Shape := ⟨2, ![100000, 512]⟩
abbrev S100000 : Shape := ⟨1, ![100000]⟩
abbrev S3 : Shape := ⟨1, ![3]⟩
abbrev S512x1536 : Shape := ⟨2, ![512, 1536]⟩
abbrev S512 : Shape := ⟨1, ![512]⟩
abbrev S_ : Shape := ⟨0, ![]⟩
abbrev S352 : Shape := ⟨1, ![352]⟩
abbrev S100352 : Shape := ⟨1, ![100352]⟩
abbrev S98x1x1024 : Shape := ⟨3, ![98, 1, 1024]⟩
abbrev S256 : Shape := ⟨1, ![256]⟩
abbrev S14x1x1024 : Shape := ⟨3, ![14, 1, 1024]⟩
abbrev S256x1024 : Shape := ⟨2, ![256, 1024]⟩
abbrev S1x1x1024 : Shape := ⟨3, ![1, 1, 1024]⟩
abbrev S1024 : Shape := ⟨1, ![1024]⟩
abbrev S1x1024 : Shape := ⟨2, ![1, 1024]⟩
abbrev S16 : Shape := ⟨1, ![16]⟩
abbrev S272 : Shape := ⟨1, ![272]⟩
abbrev S256x512 : Shape := ⟨2, ![256, 512]⟩
abbrev S32 : Shape := ⟨1, ![32]⟩
abbrev S72x256 : Shape := ⟨2, ![72, 256]⟩
abbrev S16x256 : Shape := ⟨2, ![16, 256]⟩
abbrev S1 : Shape := ⟨1, ![1]⟩
abbrev S1x16 : Shape := ⟨2, ![1, 16]⟩
abbrev S256x1 : Shape := ⟨2, ![256, 1]⟩
abbrev S256x1536 : Shape := ⟨2, ![256, 1536]⟩
abbrev S1x512 : Shape := ⟨2, ![1, 512]⟩

abbrev nBuf : Table → Nat
  | .hbm => 17
  | .local .tc .vmem => 10
  | .local .tc .smem => 1
  | .local .scVector .vmem => 5
  | _ => 0

abbrev bufTy : (tb : Table) → Fin (nBuf tb) → BufTy
  | .hbm, ⟨0, _⟩ => ⟨S100000x512, .f32⟩
  | .hbm, ⟨1, _⟩ => ⟨S100000, .i32⟩
  | .hbm, ⟨2, _⟩ => ⟨S3, .f32⟩
  | .hbm, ⟨3, _⟩ => ⟨S512x1536, .f32⟩
  | .hbm, ⟨4, _⟩ => ⟨S512, .f32⟩
  | .hbm, ⟨5, _⟩ => ⟨S_, .i32⟩
  | .hbm, ⟨6, _⟩ => ⟨S352, .i32⟩
  | .hbm, ⟨7, _⟩ => ⟨S100352, .i32⟩
  | .hbm, ⟨8, _⟩ => ⟨S98x1x1024, .i32⟩
  | .hbm, ⟨9, _⟩ => ⟨S256, .i32⟩
  | .hbm, ⟨10, _⟩ => ⟨S256, .i32⟩
  | .hbm, ⟨11, _⟩ => ⟨S_, .i32⟩
  | .hbm, ⟨12, _⟩ => ⟨S16, .i32⟩
  | .hbm, ⟨13, _⟩ => ⟨S272, .i32⟩
  | .hbm, ⟨14, _⟩ => ⟨S256x512, .f32⟩
  | .hbm, ⟨15, _⟩ => ⟨S256x512, .f32⟩
  | .hbm, ⟨16, _⟩ => ⟨S256x512, .f32⟩
  | .local .tc .vmem, ⟨0, _⟩ => ⟨S14x1x1024, .i32⟩
  | .local .tc .vmem, ⟨1, _⟩ => ⟨S14x1x1024, .i32⟩
  | .local .tc .vmem, ⟨2, _⟩ => ⟨S256, .i32⟩
  | .local .tc .vmem, ⟨3, _⟩ => ⟨S256, .i32⟩
  | .local .tc .vmem, ⟨4, _⟩ => ⟨S256x512, .f32⟩
  | .local .tc .vmem, ⟨5, _⟩ => ⟨S256x512, .f32⟩
  | .local .tc .vmem, ⟨6, _⟩ => ⟨S256, .i32⟩
  | .local .tc .vmem, ⟨7, _⟩ => ⟨S512x1536, .f32⟩
  | .local .tc .vmem, ⟨8, _⟩ => ⟨S512, .f32⟩
  | .local .tc .vmem, ⟨9, _⟩ => ⟨S256x512, .f32⟩
  | .local .tc .smem, ⟨0, _⟩ => ⟨S3, .f32⟩
  | .local .scVector .vmem, ⟨0, _⟩ => ⟨S32, .i32⟩
  | .local .scVector .vmem, ⟨1, _⟩ => ⟨S72x256, .f32⟩
  | .local .scVector .vmem, ⟨2, _⟩ => ⟨S72x256, .f32⟩
  | .local .scVector .vmem, ⟨3, _⟩ => ⟨S16x256, .f32⟩
  | .local .scVector .vmem, ⟨4, _⟩ => ⟨S16x256, .f32⟩
  | _, _ => ⟨S100000x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_arg0_scv : Ref sig .scVector := ⟨.hbm, 0, rfl⟩
abbrev main_v5_scv : Ref sig .scVector := ⟨.hbm, 13, rfl⟩
abbrev main_v6_0_scv : Ref sig .scVector := ⟨.hbm, 14, rfl⟩
abbrev main_v6_1_scv : Ref sig .scVector := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg4_0 : Ref sig .tc := ⟨.vmem, 7, rfl⟩
abbrev cc2_stg5_0 : Ref sig .tc := ⟨.vmem, 8, rfl⟩
abbrev cc2_stg6_0 : Ref sig .tc := ⟨.vmem, 9, rfl⟩
abbrev cc2_stg3_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc2_sem0_0 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem5_0 : DmaSem sig := 14
abbrev cc2_sem6_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S14x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c16_i32 : BitVec 32 := 16#32
  let v30 : BitVec 32 := Scalar.muli v18 c16_i32
  ![v30.toNat]
def k1_off2 (i : grid1.Coords) (v36 : BitVec 32) : Fin 2 → Nat :=
  let c0_i32_1408 : BitVec 32 := 0#32
  let v2949 : BitVec 32 := Scalar.addi v36 c0_i32_1408
  let c0_i32_1410 : BitVec 32 := 0#32
  let v2951 : BitVec 1 := Scalar.cmpi .sgt v2949 c0_i32_1410
  let v2952 : BitVec 32 := Scalar.extui v2951
  let c0_i32_1411 : BitVec 32 := 0#32
  let v2953 : BitVec 1 := Scalar.cmpi .slt v2949 c0_i32_1411
  let v2954 : BitVec 32 := Scalar.extui v2953
  let v2955 : BitVec 32 := Scalar.subi v2952 v2954
  let c8_i32_1409 : BitVec 32 := 8#32
  let c0_i32_1412 : BitVec 32 := 0#32
  let v2956 : BitVec 1 := Scalar.cmpi .sgt c8_i32_1409 c0_i32_1412
  let v2957 : BitVec 32 := Scalar.extui v2956
  let c0_i32_1413 : BitVec 32 := 0#32
  let v2958 : BitVec 1 := Scalar.cmpi .slt c8_i32_1409 c0_i32_1413
  let v2959 : BitVec 32 := Scalar.extui v2958
  let v2960 : BitVec 32 := Scalar.subi v2957 v2959
  let v2961 : BitVec 1 := Scalar.cmpi .ne v2955 v2960
  let v2962 : BitVec 32 := Scalar.remsi v2949 c8_i32_1409
  let c0_i32_1414 : BitVec 32 := 0#32
  let v2963 : BitVec 1 := Scalar.cmpi .ne v2962 c0_i32_1414
  let v2964 : BitVec 1 := Scalar.andi v2961 v2963
  let v2950 : BitVec 32 := Scalar.divsi v2949 c8_i32_1409
  let c1_i32_1415 : BitVec 32 := 1#32
  let v2965 : BitVec 32 := Scalar.subi v2950 c1_i32_1415
  let v2966 : BitVec 32 := Scalar.select v2964 v2965 v2950
  let c8_i32_1416 : BitVec 32 := 8#32
  let v2967 : BitVec 32 := Scalar.muli v2966 c8_i32_1416
  let c99928_i32 : BitVec 32 := 99928#32
  let v2968 : BitVec 32 := Scalar.minsi v2967 c99928_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v2968.toNat, v29.toNat]
def k1_cond1 (v36 : BitVec 32) (v38 : BitVec 32) : BitVec 1 :=
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c0_i32_20 : BitVec 32 := 0#32
  let v61 : BitVec 1 := Scalar.cmpi .sgt v60 c0_i32_20
  let v62 : BitVec 32 := Scalar.extui v61
  let c0_i32_21 : BitVec 32 := 0#32
  let v63 : BitVec 1 := Scalar.cmpi .ne v62 c0_i32_21
  v63

@[reducible] def k1_t1_loop (v36 : BitVec 32) (v38 : BitVec 32) : Scf.Loop 32 :=
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_32 : BitVec 32 := 1#32
  ⟨c0_i32_30, v86, c1_i32_32⟩
def k1_off3 (i : grid1.Coords) (v36 : BitVec 32) (v38 : BitVec 32) (k1_t1 : Fin (k1_t1_loop v36 v38).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1446 : BitVec 32 := 64#32
  let v3026 : BitVec 32 := Scalar.muli v2949 c64_i32_1446
  let v3027 : BitVec 32 := Scalar.addi v36 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond2 (v36 : BitVec 32) (v38 : BitVec 32) (k1_t1 : Fin (k1_t1_loop v36 v38).trips) : BitVec 1 :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let v2950 : BitVec 1 := Scalar.cmpi .slt v2949 v60
  let v2951 : BitVec 32 := Scalar.extui v2950
  let c0_i32_1409 : BitVec 32 := 0#32
  let v2952 : BitVec 1 := Scalar.cmpi .ne v2951 c0_i32_1409
  v2952

def k1_off4 (i : grid1.Coords) (v36 : BitVec 32) (v38 : BitVec 32) (k1_t1 : Fin (k1_t1_loop v36 v38).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v36 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond3 (v36 : BitVec 32) (v38 : BitVec 32) (k1_t1 : Fin (k1_t1_loop v36 v38).trips) : BitVec 1 :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c1_i32_1456 : BitVec 32 := 1#32
  let v3049 : BitVec 32 := Scalar.addi v2949 c1_i32_1456
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let v3050 : BitVec 1 := Scalar.cmpi .slt v3049 v60
  let v3051 : BitVec 32 := Scalar.extui v3050
  let c0_i32_1457 : BitVec 32 := 0#32
  let v3052 : BitVec 1 := Scalar.cmpi .ne v3051 c0_i32_1457
  v3052

@[reducible] def k1_t2_loop (v36 : BitVec 32) (v38 : BitVec 32) (k1_t1 : Fin (k1_t1_loop v36 v38).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off5 (v36 : BitVec 32) (v38 : BitVec 32) (k1_t1 : Fin (k1_t1_loop v36 v38).trips) (k1_t2 : Fin (k1_t2_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t2
  let v3026 : BitVec 32 := Scalar.addi v2976 arg46
  let v3027 : Index := Scalar.indexCast v3026
  let c0_1446 : Index := 0#32
  ![v3027.toNat, 0]
def k1_off6 (v36 : BitVec 32) (v38 : BitVec 32) (k1_t1 : Fin (k1_t1_loop v36 v38).trips) (k1_t2 : Fin (k1_t2_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t2
  let v3026 : BitVec 32 := Scalar.addi v2976 arg46
  let v3032 : Index := Scalar.indexCast v3026
  let c16_1447 : Index := 16#32
  ![v3032.toNat, 16]
def k1_off7 (v36 : BitVec 32) (v38 : BitVec 32) (k1_t1 : Fin (k1_t1_loop v36 v38).trips) (k1_t2 : Fin (k1_t2_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t2
  let v3026 : BitVec 32 := Scalar.addi v2976 arg46
  let v3037 : Index := Scalar.indexCast v3026
  let c32_1448 : Index := 32#32
  ![v3037.toNat, 32]
def k1_off8 (v36 : BitVec 32) (v38 : BitVec 32) (k1_t1 : Fin (k1_t1_loop v36 v38).trips) (k1_t2 : Fin (k1_t2_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t2
  let v3026 : BitVec 32 := Scalar.addi v2976 arg46
  let v3042 : Index := Scalar.indexCast v3026
  let c48_1449 : Index := 48#32
  ![v3042.toNat, 48]
def k1_off9 (v36 : BitVec 32) (v38 : BitVec 32) (k1_t1 : Fin (k1_t1_loop v36 v38).trips) (k1_t2 : Fin (k1_t2_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t2
  let v3026 : BitVec 32 := Scalar.addi v2976 arg46
  let v3047 : Index := Scalar.indexCast v3026
  let c64_1450 : Index := 64#32
  ![v3047.toNat, 64]
def k1_off10 (v36 : BitVec 32) (v38 : BitVec 32) (k1_t1 : Fin (k1_t1_loop v36 v38).trips) (k1_t2 : Fin (k1_t2_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t2
  let v3026 : BitVec 32 := Scalar.addi v2976 arg46
  let v3052 : Index := Scalar.indexCast v3026
  let c80_1451 : Index := 80#32
  ![v3052.toNat, 80]
def k1_off11 (v36 : BitVec 32) (v38 : BitVec 32) (k1_t1 : Fin (k1_t1_loop v36 v38).trips) (k1_t2 : Fin (k1_t2_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t2
  let v3026 : BitVec 32 := Scalar.addi v2976 arg46
  let v3057 : Index := Scalar.indexCast v3026
  let c96_1452 : Index := 96#32
  ![v3057.toNat, 96]
def k1_off12 (v36 : BitVec 32) (v38 : BitVec 32) (k1_t1 : Fin (k1_t1_loop v36 v38).trips) (k1_t2 : Fin (k1_t2_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t2
  let v3026 : BitVec 32 := Scalar.addi v2976 arg46
  let v3062 : Index := Scalar.indexCast v3026
  let c112_1453 : Index := 112#32
  ![v3062.toNat, 112]
def k1_off13 (v36 : BitVec 32) (v38 : BitVec 32) (k1_t1 : Fin (k1_t1_loop v36 v38).trips) (k1_t2 : Fin (k1_t2_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t2
  let v3026 : BitVec 32 := Scalar.addi v2976 arg46
  let v3067 : Index := Scalar.indexCast v3026
  let c128_1454 : Index := 128#32
  ![v3067.toNat, 128]
def k1_off14 (v36 : BitVec 32) (v38 : BitVec 32) (k1_t1 : Fin (k1_t1_loop v36 v38).trips) (k1_t2 : Fin (k1_t2_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t2
  let v3026 : BitVec 32 := Scalar.addi v2976 arg46
  let v3072 : Index := Scalar.indexCast v3026
  let c144_1455 : Index := 144#32
  ![v3072.toNat, 144]
def k1_off15 (v36 : BitVec 32) (v38 : BitVec 32) (k1_t1 : Fin (k1_t1_loop v36 v38).trips) (k1_t2 : Fin (k1_t2_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t2
  let v3026 : BitVec 32 := Scalar.addi v2976 arg46
  let v3077 : Index := Scalar.indexCast v3026
  let c160_1456 : Index := 160#32
  ![v3077.toNat, 160]
def k1_off16 (v36 : BitVec 32) (v38 : BitVec 32) (k1_t1 : Fin (k1_t1_loop v36 v38).trips) (k1_t2 : Fin (k1_t2_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t2
  let v3026 : BitVec 32 := Scalar.addi v2976 arg46
  let v3082 : Index := Scalar.indexCast v3026
  let c176_1457 : Index := 176#32
  ![v3082.toNat, 176]
def k1_off17 (v36 : BitVec 32) (v38 : BitVec 32) (k1_t1 : Fin (k1_t1_loop v36 v38).trips) (k1_t2 : Fin (k1_t2_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t2
  let v3026 : BitVec 32 := Scalar.addi v2976 arg46
  let v3087 : Index := Scalar.indexCast v3026
  let c192_1458 : Index := 192#32
  ![v3087.toNat, 192]
def k1_off18 (v36 : BitVec 32) (v38 : BitVec 32) (k1_t1 : Fin (k1_t1_loop v36 v38).trips) (k1_t2 : Fin (k1_t2_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t2
  let v3026 : BitVec 32 := Scalar.addi v2976 arg46
  let v3092 : Index := Scalar.indexCast v3026
  let c208_1459 : Index := 208#32
  ![v3092.toNat, 208]
def k1_off19 (v36 : BitVec 32) (v38 : BitVec 32) (k1_t1 : Fin (k1_t1_loop v36 v38).trips) (k1_t2 : Fin (k1_t2_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t2
  let v3026 : BitVec 32 := Scalar.addi v2976 arg46
  let v3097 : Index := Scalar.indexCast v3026
  let c224_1460 : Index := 224#32
  ![v3097.toNat, 224]
def k1_off20 (v36 : BitVec 32) (v38 : BitVec 32) (k1_t1 : Fin (k1_t1_loop v36 v38).trips) (k1_t2 : Fin (k1_t2_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t2
  let v3026 : BitVec 32 := Scalar.addi v2976 arg46
  let v3102 : Index := Scalar.indexCast v3026
  let c240_1461 : Index := 240#32
  ![v3102.toNat, 240]
@[reducible] def k1_t3_loop (v36 : BitVec 32) (v38 : BitVec 32) (k1_t1 : Fin (k1_t1_loop v36 v38).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off21 (v36 : BitVec 32) (v38 : BitVec 32) (k1_t1 : Fin (k1_t1_loop v36 v38).trips) (k1_t3 : Fin (k1_t3_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t3
  let v3026 : BitVec 32 := Scalar.addi v2976 arg46
  let v3027 : Index := Scalar.indexCast v3026
  let c0_1446 : Index := 0#32
  ![v3027.toNat, 0]
def k1_off22 (v36 : BitVec 32) (v38 : BitVec 32) (k1_t1 : Fin (k1_t1_loop v36 v38).trips) (k1_t3 : Fin (k1_t3_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t3
  let v3026 : BitVec 32 := Scalar.addi v2976 arg46
  let v3032 : Index := Scalar.indexCast v3026
  let c16_1447 : Index := 16#32
  ![v3032.toNat, 16]
def k1_off23 (v36 : BitVec 32) (v38 : BitVec 32) (k1_t1 : Fin (k1_t1_loop v36 v38).trips) (k1_t3 : Fin (k1_t3_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t3
  let v3026 : BitVec 32 := Scalar.addi v2976 arg46
  let v3037 : Index := Scalar.indexCast v3026
  let c32_1448 : Index := 32#32
  ![v3037.toNat, 32]
def k1_off24 (v36 : BitVec 32) (v38 : BitVec 32) (k1_t1 : Fin (k1_t1_loop v36 v38).trips) (k1_t3 : Fin (k1_t3_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t3
  let v3026 : BitVec 32 := Scalar.addi v2976 arg46
  let v3042 : Index := Scalar.indexCast v3026
  let c48_1449 : Index := 48#32
  ![v3042.toNat, 48]
def k1_off25 (v36 : BitVec 32) (v38 : BitVec 32) (k1_t1 : Fin (k1_t1_loop v36 v38).trips) (k1_t3 : Fin (k1_t3_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t3
  let v3026 : BitVec 32 := Scalar.addi v2976 arg46
  let v3047 : Index := Scalar.indexCast v3026
  let c64_1450 : Index := 64#32
  ![v3047.toNat, 64]
def k1_off26 (v36 : BitVec 32) (v38 : BitVec 32) (k1_t1 : Fin (k1_t1_loop v36 v38).trips) (k1_t3 : Fin (k1_t3_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t3
  let v3026 : BitVec 32 := Scalar.addi v2976 arg46
  let v3052 : Index := Scalar.indexCast v3026
  let c80_1451 : Index := 80#32
  ![v3052.toNat, 80]
def k1_off27 (v36 : BitVec 32) (v38 : BitVec 32) (k1_t1 : Fin (k1_t1_loop v36 v38).trips) (k1_t3 : Fin (k1_t3_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t3
  let v3026 : BitVec 32 := Scalar.addi v2976 arg46
  let v3057 : Index := Scalar.indexCast v3026
  let c96_1452 : Index := 96#32
  ![v3057.toNat, 96]
def k1_off28 (v36 : BitVec 32) (v38 : BitVec 32) (k1_t1 : Fin (k1_t1_loop v36 v38).trips) (k1_t3 : Fin (k1_t3_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t3
  let v3026 : BitVec 32 := Scalar.addi v2976 arg46
  let v3062 : Index := Scalar.indexCast v3026
  let c112_1453 : Index := 112#32
  ![v3062.toNat, 112]
def k1_off29 (v36 : BitVec 32) (v38 : BitVec 32) (k1_t1 : Fin (k1_t1_loop v36 v38).trips) (k1_t3 : Fin (k1_t3_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t3
  let v3026 : BitVec 32 := Scalar.addi v2976 arg46
  let v3067 : Index := Scalar.indexCast v3026
  let c128_1454 : Index := 128#32
  ![v3067.toNat, 128]
def k1_off30 (v36 : BitVec 32) (v38 : BitVec 32) (k1_t1 : Fin (k1_t1_loop v36 v38).trips) (k1_t3 : Fin (k1_t3_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t3
  let v3026 : BitVec 32 := Scalar.addi v2976 arg46
  let v3072 : Index := Scalar.indexCast v3026
  let c144_1455 : Index := 144#32
  ![v3072.toNat, 144]
def k1_off31 (v36 : BitVec 32) (v38 : BitVec 32) (k1_t1 : Fin (k1_t1_loop v36 v38).trips) (k1_t3 : Fin (k1_t3_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t3
  let v3026 : BitVec 32 := Scalar.addi v2976 arg46
  let v3077 : Index := Scalar.indexCast v3026
  let c160_1456 : Index := 160#32
  ![v3077.toNat, 160]
def k1_off32 (v36 : BitVec 32) (v38 : BitVec 32) (k1_t1 : Fin (k1_t1_loop v36 v38).trips) (k1_t3 : Fin (k1_t3_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t3
  let v3026 : BitVec 32 := Scalar.addi v2976 arg46
  let v3082 : Index := Scalar.indexCast v3026
  let c176_1457 : Index := 176#32
  ![v3082.toNat, 176]
def k1_off33 (v36 : BitVec 32) (v38 : BitVec 32) (k1_t1 : Fin (k1_t1_loop v36 v38).trips) (k1_t3 : Fin (k1_t3_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t3
  let v3026 : BitVec 32 := Scalar.addi v2976 arg46
  let v3087 : Index := Scalar.indexCast v3026
  let c192_1458 : Index := 192#32
  ![v3087.toNat, 192]
def k1_off34 (v36 : BitVec 32) (v38 : BitVec 32) (k1_t1 : Fin (k1_t1_loop v36 v38).trips) (k1_t3 : Fin (k1_t3_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t3
  let v3026 : BitVec 32 := Scalar.addi v2976 arg46
  let v3092 : Index := Scalar.indexCast v3026
  let c208_1459 : Index := 208#32
  ![v3092.toNat, 208]
def k1_off35 (v36 : BitVec 32) (v38 : BitVec 32) (k1_t1 : Fin (k1_t1_loop v36 v38).trips) (k1_t3 : Fin (k1_t3_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t3
  let v3026 : BitVec 32 := Scalar.addi v2976 arg46
  let v3097 : Index := Scalar.indexCast v3026
  let c224_1460 : Index := 224#32
  ![v3097.toNat, 224]
def k1_off36 (v36 : BitVec 32) (v38 : BitVec 32) (k1_t1 : Fin (k1_t1_loop v36 v38).trips) (k1_t3 : Fin (k1_t3_loop v36 v38 k1_t1).trips) : Fin 2 → Nat :=
  let c2_i32_1408 : BitVec 32 := 2#32
  let c0_i32_30 : BitVec 32 := 0#32
  let c1_i32_32 : BitVec 32 := 1#32
  let arg13 : BitVec 32 := Scf.iv c0_i32_30 c1_i32_32 k1_t1
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t3
  let v3026 : BitVec 32 := Scalar.addi v2976 arg46
  let v3102 : Index := Scalar.indexCast v3026
  let c240_1461 : Index := 240#32
  ![v3102.toNat, 240]
def k1_off37 (i : grid1.Coords) (v36 : BitVec 32) (v38 : BitVec 32) (k1_t1 : Fin (k1_t1_loop v36 v38).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v36 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond4 (v36 : BitVec 32) (v38 : BitVec 32) (k1_t1 : Fin (k1_t1_loop v36 v38).trips) : BitVec 1 :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let v2989 : BitVec 1 := Scalar.cmpi .slt v2988 v60
  let v2990 : BitVec 32 := Scalar.extui v2989
  let c0_i32_1428 : BitVec 32 := 0#32
  let v2991 : BitVec 1 := Scalar.cmpi .ne v2990 c0_i32_1428
  v2991

def k1_off38 (i : grid1.Coords) (v36 : BitVec 32) (v38 : BitVec 32) (k1_t1 : Fin (k1_t1_loop v36 v38).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v36 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond5 (v36 : BitVec 32) (v38 : BitVec 32) (k1_t1 : Fin (k1_t1_loop v36 v38).trips) : BitVec 1 :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let v3050 : BitVec 1 := Scalar.cmpi .slt v3049 v60
  let v3051 : BitVec 32 := Scalar.extui v3050
  let c0_i32_1457 : BitVec 32 := 0#32
  let v3052 : BitVec 1 := Scalar.cmpi .ne v3051 c0_i32_1457
  v3052

@[reducible] def k1_t4_loop (v36 : BitVec 32) (v38 : BitVec 32) (k1_t1 : Fin (k1_t1_loop v36 v38).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off39 (v36 : BitVec 32) (v38 : BitVec 32) (k1_t1 : Fin (k1_t1_loop v36 v38).trips) (k1_t4 : Fin (k1_t4_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t4
  let v3026 : BitVec 32 := Scalar.addi v3015 arg46
  let v3027 : Index := Scalar.indexCast v3026
  let c0_1446 : Index := 0#32
  ![v3027.toNat, 0]
def k1_off40 (v36 : BitVec 32) (v38 : BitVec 32) (k1_t1 : Fin (k1_t1_loop v36 v38).trips) (k1_t4 : Fin (k1_t4_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t4
  let v3026 : BitVec 32 := Scalar.addi v3015 arg46
  let v3032 : Index := Scalar.indexCast v3026
  let c16_1447 : Index := 16#32
  ![v3032.toNat, 16]
def k1_off41 (v36 : BitVec 32) (v38 : BitVec 32) (k1_t1 : Fin (k1_t1_loop v36 v38).trips) (k1_t4 : Fin (k1_t4_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t4
  let v3026 : BitVec 32 := Scalar.addi v3015 arg46
  let v3037 : Index := Scalar.indexCast v3026
  let c32_1448 : Index := 32#32
  ![v3037.toNat, 32]
def k1_off42 (v36 : BitVec 32) (v38 : BitVec 32) (k1_t1 : Fin (k1_t1_loop v36 v38).trips) (k1_t4 : Fin (k1_t4_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t4
  let v3026 : BitVec 32 := Scalar.addi v3015 arg46
  let v3042 : Index := Scalar.indexCast v3026
  let c48_1449 : Index := 48#32
  ![v3042.toNat, 48]
def k1_off43 (v36 : BitVec 32) (v38 : BitVec 32) (k1_t1 : Fin (k1_t1_loop v36 v38).trips) (k1_t4 : Fin (k1_t4_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t4
  let v3026 : BitVec 32 := Scalar.addi v3015 arg46
  let v3047 : Index := Scalar.indexCast v3026
  let c64_1450 : Index := 64#32
  ![v3047.toNat, 64]
def k1_off44 (v36 : BitVec 32) (v38 : BitVec 32) (k1_t1 : Fin (k1_t1_loop v36 v38).trips) (k1_t4 : Fin (k1_t4_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t4
  let v3026 : BitVec 32 := Scalar.addi v3015 arg46
  let v3052 : Index := Scalar.indexCast v3026
  let c80_1451 : Index := 80#32
  ![v3052.toNat, 80]
def k1_off45 (v36 : BitVec 32) (v38 : BitVec 32) (k1_t1 : Fin (k1_t1_loop v36 v38).trips) (k1_t4 : Fin (k1_t4_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t4
  let v3026 : BitVec 32 := Scalar.addi v3015 arg46
  let v3057 : Index := Scalar.indexCast v3026
  let c96_1452 : Index := 96#32
  ![v3057.toNat, 96]
def k1_off46 (v36 : BitVec 32) (v38 : BitVec 32) (k1_t1 : Fin (k1_t1_loop v36 v38).trips) (k1_t4 : Fin (k1_t4_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t4
  let v3026 : BitVec 32 := Scalar.addi v3015 arg46
  let v3062 : Index := Scalar.indexCast v3026
  let c112_1453 : Index := 112#32
  ![v3062.toNat, 112]
def k1_off47 (v36 : BitVec 32) (v38 : BitVec 32) (k1_t1 : Fin (k1_t1_loop v36 v38).trips) (k1_t4 : Fin (k1_t4_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t4
  let v3026 : BitVec 32 := Scalar.addi v3015 arg46
  let v3067 : Index := Scalar.indexCast v3026
  let c128_1454 : Index := 128#32
  ![v3067.toNat, 128]
def k1_off48 (v36 : BitVec 32) (v38 : BitVec 32) (k1_t1 : Fin (k1_t1_loop v36 v38).trips) (k1_t4 : Fin (k1_t4_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t4
  let v3026 : BitVec 32 := Scalar.addi v3015 arg46
  let v3072 : Index := Scalar.indexCast v3026
  let c144_1455 : Index := 144#32
  ![v3072.toNat, 144]
def k1_off49 (v36 : BitVec 32) (v38 : BitVec 32) (k1_t1 : Fin (k1_t1_loop v36 v38).trips) (k1_t4 : Fin (k1_t4_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t4
  let v3026 : BitVec 32 := Scalar.addi v3015 arg46
  let v3077 : Index := Scalar.indexCast v3026
  let c160_1456 : Index := 160#32
  ![v3077.toNat, 160]
def k1_off50 (v36 : BitVec 32) (v38 : BitVec 32) (k1_t1 : Fin (k1_t1_loop v36 v38).trips) (k1_t4 : Fin (k1_t4_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t4
  let v3026 : BitVec 32 := Scalar.addi v3015 arg46
  let v3082 : Index := Scalar.indexCast v3026
  let c176_1457 : Index := 176#32
  ![v3082.toNat, 176]
def k1_off51 (v36 : BitVec 32) (v38 : BitVec 32) (k1_t1 : Fin (k1_t1_loop v36 v38).trips) (k1_t4 : Fin (k1_t4_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t4
  let v3026 : BitVec 32 := Scalar.addi v3015 arg46
  let v3087 : Index := Scalar.indexCast v3026
  let c192_1458 : Index := 192#32
  ![v3087.toNat, 192]
def k1_off52 (v36 : BitVec 32) (v38 : BitVec 32) (k1_t1 : Fin (k1_t1_loop v36 v38).trips) (k1_t4 : Fin (k1_t4_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t4
  let v3026 : BitVec 32 := Scalar.addi v3015 arg46
  let v3092 : Index := Scalar.indexCast v3026
  let c208_1459 : Index := 208#32
  ![v3092.toNat, 208]
def k1_off53 (v36 : BitVec 32) (v38 : BitVec 32) (k1_t1 : Fin (k1_t1_loop v36 v38).trips) (k1_t4 : Fin (k1_t4_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t4
  let v3026 : BitVec 32 := Scalar.addi v3015 arg46
  let v3097 : Index := Scalar.indexCast v3026
  let c224_1460 : Index := 224#32
  ![v3097.toNat, 224]
def k1_off54 (v36 : BitVec 32) (v38 : BitVec 32) (k1_t1 : Fin (k1_t1_loop v36 v38).trips) (k1_t4 : Fin (k1_t4_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t4
  let v3026 : BitVec 32 := Scalar.addi v3015 arg46
  let v3102 : Index := Scalar.indexCast v3026
  let c240_1461 : Index := 240#32
  ![v3102.toNat, 240]
@[reducible] def k1_t5_loop (v36 : BitVec 32) (v38 : BitVec 32) (k1_t1 : Fin (k1_t1_loop v36 v38).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off55 (v36 : BitVec 32) (v38 : BitVec 32) (k1_t1 : Fin (k1_t1_loop v36 v38).trips) (k1_t5 : Fin (k1_t5_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t5
  let v3026 : BitVec 32 := Scalar.addi v3015 arg46
  let v3027 : Index := Scalar.indexCast v3026
  let c0_1446 : Index := 0#32
  ![v3027.toNat, 0]
def k1_off56 (v36 : BitVec 32) (v38 : BitVec 32) (k1_t1 : Fin (k1_t1_loop v36 v38).trips) (k1_t5 : Fin (k1_t5_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t5
  let v3026 : BitVec 32 := Scalar.addi v3015 arg46
  let v3032 : Index := Scalar.indexCast v3026
  let c16_1447 : Index := 16#32
  ![v3032.toNat, 16]
def k1_off57 (v36 : BitVec 32) (v38 : BitVec 32) (k1_t1 : Fin (k1_t1_loop v36 v38).trips) (k1_t5 : Fin (k1_t5_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t5
  let v3026 : BitVec 32 := Scalar.addi v3015 arg46
  let v3037 : Index := Scalar.indexCast v3026
  let c32_1448 : Index := 32#32
  ![v3037.toNat, 32]
def k1_off58 (v36 : BitVec 32) (v38 : BitVec 32) (k1_t1 : Fin (k1_t1_loop v36 v38).trips) (k1_t5 : Fin (k1_t5_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t5
  let v3026 : BitVec 32 := Scalar.addi v3015 arg46
  let v3042 : Index := Scalar.indexCast v3026
  let c48_1449 : Index := 48#32
  ![v3042.toNat, 48]
def k1_off59 (v36 : BitVec 32) (v38 : BitVec 32) (k1_t1 : Fin (k1_t1_loop v36 v38).trips) (k1_t5 : Fin (k1_t5_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t5
  let v3026 : BitVec 32 := Scalar.addi v3015 arg46
  let v3047 : Index := Scalar.indexCast v3026
  let c64_1450 : Index := 64#32
  ![v3047.toNat, 64]
def k1_off60 (v36 : BitVec 32) (v38 : BitVec 32) (k1_t1 : Fin (k1_t1_loop v36 v38).trips) (k1_t5 : Fin (k1_t5_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t5
  let v3026 : BitVec 32 := Scalar.addi v3015 arg46
  let v3052 : Index := Scalar.indexCast v3026
  let c80_1451 : Index := 80#32
  ![v3052.toNat, 80]
def k1_off61 (v36 : BitVec 32) (v38 : BitVec 32) (k1_t1 : Fin (k1_t1_loop v36 v38).trips) (k1_t5 : Fin (k1_t5_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t5
  let v3026 : BitVec 32 := Scalar.addi v3015 arg46
  let v3057 : Index := Scalar.indexCast v3026
  let c96_1452 : Index := 96#32
  ![v3057.toNat, 96]
def k1_off62 (v36 : BitVec 32) (v38 : BitVec 32) (k1_t1 : Fin (k1_t1_loop v36 v38).trips) (k1_t5 : Fin (k1_t5_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t5
  let v3026 : BitVec 32 := Scalar.addi v3015 arg46
  let v3062 : Index := Scalar.indexCast v3026
  let c112_1453 : Index := 112#32
  ![v3062.toNat, 112]
def k1_off63 (v36 : BitVec 32) (v38 : BitVec 32) (k1_t1 : Fin (k1_t1_loop v36 v38).trips) (k1_t5 : Fin (k1_t5_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t5
  let v3026 : BitVec 32 := Scalar.addi v3015 arg46
  let v3067 : Index := Scalar.indexCast v3026
  let c128_1454 : Index := 128#32
  ![v3067.toNat, 128]
def k1_off64 (v36 : BitVec 32) (v38 : BitVec 32) (k1_t1 : Fin (k1_t1_loop v36 v38).trips) (k1_t5 : Fin (k1_t5_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t5
  let v3026 : BitVec 32 := Scalar.addi v3015 arg46
  let v3072 : Index := Scalar.indexCast v3026
  let c144_1455 : Index := 144#32
  ![v3072.toNat, 144]
def k1_off65 (v36 : BitVec 32) (v38 : BitVec 32) (k1_t1 : Fin (k1_t1_loop v36 v38).trips) (k1_t5 : Fin (k1_t5_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t5
  let v3026 : BitVec 32 := Scalar.addi v3015 arg46
  let v3077 : Index := Scalar.indexCast v3026
  let c160_1456 : Index := 160#32
  ![v3077.toNat, 160]
def k1_off66 (v36 : BitVec 32) (v38 : BitVec 32) (k1_t1 : Fin (k1_t1_loop v36 v38).trips) (k1_t5 : Fin (k1_t5_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t5
  let v3026 : BitVec 32 := Scalar.addi v3015 arg46
  let v3082 : Index := Scalar.indexCast v3026
  let c176_1457 : Index := 176#32
  ![v3082.toNat, 176]
def k1_off67 (v36 : BitVec 32) (v38 : BitVec 32) (k1_t1 : Fin (k1_t1_loop v36 v38).trips) (k1_t5 : Fin (k1_t5_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t5
  let v3026 : BitVec 32 := Scalar.addi v3015 arg46
  let v3087 : Index := Scalar.indexCast v3026
  let c192_1458 : Index := 192#32
  ![v3087.toNat, 192]
def k1_off68 (v36 : BitVec 32) (v38 : BitVec 32) (k1_t1 : Fin (k1_t1_loop v36 v38).trips) (k1_t5 : Fin (k1_t5_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t5
  let v3026 : BitVec 32 := Scalar.addi v3015 arg46
  let v3092 : Index := Scalar.indexCast v3026
  let c208_1459 : Index := 208#32
  ![v3092.toNat, 208]
def k1_off69 (v36 : BitVec 32) (v38 : BitVec 32) (k1_t1 : Fin (k1_t1_loop v36 v38).trips) (k1_t5 : Fin (k1_t5_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t5
  let v3026 : BitVec 32 := Scalar.addi v3015 arg46
  let v3097 : Index := Scalar.indexCast v3026
  let c224_1460 : Index := 224#32
  ![v3097.toNat, 224]
def k1_off70 (v36 : BitVec 32) (v38 : BitVec 32) (k1_t1 : Fin (k1_t1_loop v36 v38).trips) (k1_t5 : Fin (k1_t5_loop v36 v38 k1_t1).trips) : Fin 2 → Nat :=
  let c2_i32_1426 : BitVec 32 := 2#32
  let c0_i32_30 : BitVec 32 := 0#32
  let c1_i32_32 : BitVec 32 := 1#32
  let arg13 : BitVec 32 := Scf.iv c0_i32_30 c1_i32_32 k1_t1
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t5
  let v3026 : BitVec 32 := Scalar.addi v3015 arg46
  let v3102 : Index := Scalar.indexCast v3026
  let c240_1461 : Index := 240#32
  ![v3102.toNat, 240]
@[reducible] def k1_t6_loop (v36 : BitVec 32) (v38 : BitVec 32) : Scf.Loop 32 :=
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let v83 : BitVec 32 := Scalar.addi c0_i32_30 v82
  let c1_i32_33 : BitVec 32 := 1#32
  ⟨v86, v83, c1_i32_33⟩
def k1_off71 (i : grid1.Coords) (v36 : BitVec 32) (v38 : BitVec 32) (k1_t6 : Fin (k1_t6_loop v36 v38).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1446 : BitVec 32 := 64#32
  let v3026 : BitVec 32 := Scalar.muli v2949 c64_i32_1446
  let v3027 : BitVec 32 := Scalar.addi v36 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond6 (v36 : BitVec 32) (v38 : BitVec 32) (k1_t6 : Fin (k1_t6_loop v36 v38).trips) : BitVec 1 :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let v2950 : BitVec 1 := Scalar.cmpi .slt v2949 v60
  let v2951 : BitVec 32 := Scalar.extui v2950
  let c0_i32_1409 : BitVec 32 := 0#32
  let v2952 : BitVec 1 := Scalar.cmpi .ne v2951 c0_i32_1409
  v2952

def k1_off72 (i : grid1.Coords) (v36 : BitVec 32) (v38 : BitVec 32) (k1_t6 : Fin (k1_t6_loop v36 v38).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v36 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond7 (v36 : BitVec 32) (v38 : BitVec 32) (k1_t6 : Fin (k1_t6_loop v36 v38).trips) : BitVec 1 :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c1_i32_1456 : BitVec 32 := 1#32
  let v3049 : BitVec 32 := Scalar.addi v2949 c1_i32_1456
  let v3050 : BitVec 1 := Scalar.cmpi .slt v3049 v60
  let v3051 : BitVec 32 := Scalar.extui v3050
  let c0_i32_1457 : BitVec 32 := 0#32
  let v3052 : BitVec 1 := Scalar.cmpi .ne v3051 c0_i32_1457
  v3052

@[reducible] def k1_t7_loop (v36 : BitVec 32) (v38 : BitVec 32) (k1_t6 : Fin (k1_t6_loop v36 v38).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off73 (v36 : BitVec 32) (v38 : BitVec 32) (k1_t6 : Fin (k1_t6_loop v36 v38).trips) (k1_t7 : Fin (k1_t7_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t7
  let v3026 : BitVec 32 := Scalar.addi v2976 arg46
  let v3027 : Index := Scalar.indexCast v3026
  let c0_1446 : Index := 0#32
  ![v3027.toNat, 0]
def k1_off74 (v36 : BitVec 32) (v38 : BitVec 32) (k1_t6 : Fin (k1_t6_loop v36 v38).trips) (k1_t7 : Fin (k1_t7_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t7
  let v3026 : BitVec 32 := Scalar.addi v2976 arg46
  let v3032 : Index := Scalar.indexCast v3026
  let c16_1447 : Index := 16#32
  ![v3032.toNat, 16]
def k1_off75 (v36 : BitVec 32) (v38 : BitVec 32) (k1_t6 : Fin (k1_t6_loop v36 v38).trips) (k1_t7 : Fin (k1_t7_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t7
  let v3026 : BitVec 32 := Scalar.addi v2976 arg46
  let v3037 : Index := Scalar.indexCast v3026
  let c32_1448 : Index := 32#32
  ![v3037.toNat, 32]
def k1_off76 (v36 : BitVec 32) (v38 : BitVec 32) (k1_t6 : Fin (k1_t6_loop v36 v38).trips) (k1_t7 : Fin (k1_t7_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t7
  let v3026 : BitVec 32 := Scalar.addi v2976 arg46
  let v3042 : Index := Scalar.indexCast v3026
  let c48_1449 : Index := 48#32
  ![v3042.toNat, 48]
def k1_off77 (v36 : BitVec 32) (v38 : BitVec 32) (k1_t6 : Fin (k1_t6_loop v36 v38).trips) (k1_t7 : Fin (k1_t7_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t7
  let v3026 : BitVec 32 := Scalar.addi v2976 arg46
  let v3047 : Index := Scalar.indexCast v3026
  let c64_1450 : Index := 64#32
  ![v3047.toNat, 64]
def k1_off78 (v36 : BitVec 32) (v38 : BitVec 32) (k1_t6 : Fin (k1_t6_loop v36 v38).trips) (k1_t7 : Fin (k1_t7_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t7
  let v3026 : BitVec 32 := Scalar.addi v2976 arg46
  let v3052 : Index := Scalar.indexCast v3026
  let c80_1451 : Index := 80#32
  ![v3052.toNat, 80]
def k1_off79 (v36 : BitVec 32) (v38 : BitVec 32) (k1_t6 : Fin (k1_t6_loop v36 v38).trips) (k1_t7 : Fin (k1_t7_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t7
  let v3026 : BitVec 32 := Scalar.addi v2976 arg46
  let v3057 : Index := Scalar.indexCast v3026
  let c96_1452 : Index := 96#32
  ![v3057.toNat, 96]
def k1_off80 (v36 : BitVec 32) (v38 : BitVec 32) (k1_t6 : Fin (k1_t6_loop v36 v38).trips) (k1_t7 : Fin (k1_t7_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t7
  let v3026 : BitVec 32 := Scalar.addi v2976 arg46
  let v3062 : Index := Scalar.indexCast v3026
  let c112_1453 : Index := 112#32
  ![v3062.toNat, 112]
def k1_off81 (v36 : BitVec 32) (v38 : BitVec 32) (k1_t6 : Fin (k1_t6_loop v36 v38).trips) (k1_t7 : Fin (k1_t7_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t7
  let v3026 : BitVec 32 := Scalar.addi v2976 arg46
  let v3067 : Index := Scalar.indexCast v3026
  let c128_1454 : Index := 128#32
  ![v3067.toNat, 128]
def k1_off82 (v36 : BitVec 32) (v38 : BitVec 32) (k1_t6 : Fin (k1_t6_loop v36 v38).trips) (k1_t7 : Fin (k1_t7_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t7
  let v3026 : BitVec 32 := Scalar.addi v2976 arg46
  let v3072 : Index := Scalar.indexCast v3026
  let c144_1455 : Index := 144#32
  ![v3072.toNat, 144]
def k1_off83 (v36 : BitVec 32) (v38 : BitVec 32) (k1_t6 : Fin (k1_t6_loop v36 v38).trips) (k1_t7 : Fin (k1_t7_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t7
  let v3026 : BitVec 32 := Scalar.addi v2976 arg46
  let v3077 : Index := Scalar.indexCast v3026
  let c160_1456 : Index := 160#32
  ![v3077.toNat, 160]
def k1_off84 (v36 : BitVec 32) (v38 : BitVec 32) (k1_t6 : Fin (k1_t6_loop v36 v38).trips) (k1_t7 : Fin (k1_t7_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t7
  let v3026 : BitVec 32 := Scalar.addi v2976 arg46
  let v3082 : Index := Scalar.indexCast v3026
  let c176_1457 : Index := 176#32
  ![v3082.toNat, 176]
def k1_off85 (v36 : BitVec 32) (v38 : BitVec 32) (k1_t6 : Fin (k1_t6_loop v36 v38).trips) (k1_t7 : Fin (k1_t7_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t7
  let v3026 : BitVec 32 := Scalar.addi v2976 arg46
  let v3087 : Index := Scalar.indexCast v3026
  let c192_1458 : Index := 192#32
  ![v3087.toNat, 192]
def k1_off86 (v36 : BitVec 32) (v38 : BitVec 32) (k1_t6 : Fin (k1_t6_loop v36 v38).trips) (k1_t7 : Fin (k1_t7_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t7
  let v3026 : BitVec 32 := Scalar.addi v2976 arg46
  let v3092 : Index := Scalar.indexCast v3026
  let c208_1459 : Index := 208#32
  ![v3092.toNat, 208]
def k1_off87 (v36 : BitVec 32) (v38 : BitVec 32) (k1_t6 : Fin (k1_t6_loop v36 v38).trips) (k1_t7 : Fin (k1_t7_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t7
  let v3026 : BitVec 32 := Scalar.addi v2976 arg46
  let v3097 : Index := Scalar.indexCast v3026
  let c224_1460 : Index := 224#32
  ![v3097.toNat, 224]
def k1_off88 (v36 : BitVec 32) (v38 : BitVec 32) (k1_t6 : Fin (k1_t6_loop v36 v38).trips) (k1_t7 : Fin (k1_t7_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t7
  let v3026 : BitVec 32 := Scalar.addi v2976 arg46
  let v3102 : Index := Scalar.indexCast v3026
  let c240_1461 : Index := 240#32
  ![v3102.toNat, 240]
@[reducible] def k1_t8_loop (v36 : BitVec 32) (v38 : BitVec 32) (k1_t6 : Fin (k1_t6_loop v36 v38).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off89 (v36 : BitVec 32) (v38 : BitVec 32) (k1_t6 : Fin (k1_t6_loop v36 v38).trips) (k1_t8 : Fin (k1_t8_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t8
  let v3026 : BitVec 32 := Scalar.addi v2976 arg46
  let v3027 : Index := Scalar.indexCast v3026
  let c0_1446 : Index := 0#32
  ![v3027.toNat, 0]
def k1_off90 (v36 : BitVec 32) (v38 : BitVec 32) (k1_t6 : Fin (k1_t6_loop v36 v38).trips) (k1_t8 : Fin (k1_t8_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t8
  let v3026 : BitVec 32 := Scalar.addi v2976 arg46
  let v3032 : Index := Scalar.indexCast v3026
  let c16_1447 : Index := 16#32
  ![v3032.toNat, 16]
def k1_off91 (v36 : BitVec 32) (v38 : BitVec 32) (k1_t6 : Fin (k1_t6_loop v36 v38).trips) (k1_t8 : Fin (k1_t8_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t8
  let v3026 : BitVec 32 := Scalar.addi v2976 arg46
  let v3037 : Index := Scalar.indexCast v3026
  let c32_1448 : Index := 32#32
  ![v3037.toNat, 32]
def k1_off92 (v36 : BitVec 32) (v38 : BitVec 32) (k1_t6 : Fin (k1_t6_loop v36 v38).trips) (k1_t8 : Fin (k1_t8_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t8
  let v3026 : BitVec 32 := Scalar.addi v2976 arg46
  let v3042 : Index := Scalar.indexCast v3026
  let c48_1449 : Index := 48#32
  ![v3042.toNat, 48]
def k1_off93 (v36 : BitVec 32) (v38 : BitVec 32) (k1_t6 : Fin (k1_t6_loop v36 v38).trips) (k1_t8 : Fin (k1_t8_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t8
  let v3026 : BitVec 32 := Scalar.addi v2976 arg46
  let v3047 : Index := Scalar.indexCast v3026
  let c64_1450 : Index := 64#32
  ![v3047.toNat, 64]
def k1_off94 (v36 : BitVec 32) (v38 : BitVec 32) (k1_t6 : Fin (k1_t6_loop v36 v38).trips) (k1_t8 : Fin (k1_t8_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t8
  let v3026 : BitVec 32 := Scalar.addi v2976 arg46
  let v3052 : Index := Scalar.indexCast v3026
  let c80_1451 : Index := 80#32
  ![v3052.toNat, 80]
def k1_off95 (v36 : BitVec 32) (v38 : BitVec 32) (k1_t6 : Fin (k1_t6_loop v36 v38).trips) (k1_t8 : Fin (k1_t8_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t8
  let v3026 : BitVec 32 := Scalar.addi v2976 arg46
  let v3057 : Index := Scalar.indexCast v3026
  let c96_1452 : Index := 96#32
  ![v3057.toNat, 96]
def k1_off96 (v36 : BitVec 32) (v38 : BitVec 32) (k1_t6 : Fin (k1_t6_loop v36 v38).trips) (k1_t8 : Fin (k1_t8_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t8
  let v3026 : BitVec 32 := Scalar.addi v2976 arg46
  let v3062 : Index := Scalar.indexCast v3026
  let c112_1453 : Index := 112#32
  ![v3062.toNat, 112]
def k1_off97 (v36 : BitVec 32) (v38 : BitVec 32) (k1_t6 : Fin (k1_t6_loop v36 v38).trips) (k1_t8 : Fin (k1_t8_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t8
  let v3026 : BitVec 32 := Scalar.addi v2976 arg46
  let v3067 : Index := Scalar.indexCast v3026
  let c128_1454 : Index := 128#32
  ![v3067.toNat, 128]
def k1_off98 (v36 : BitVec 32) (v38 : BitVec 32) (k1_t6 : Fin (k1_t6_loop v36 v38).trips) (k1_t8 : Fin (k1_t8_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t8
  let v3026 : BitVec 32 := Scalar.addi v2976 arg46
  let v3072 : Index := Scalar.indexCast v3026
  let c144_1455 : Index := 144#32
  ![v3072.toNat, 144]
def k1_off99 (v36 : BitVec 32) (v38 : BitVec 32) (k1_t6 : Fin (k1_t6_loop v36 v38).trips) (k1_t8 : Fin (k1_t8_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t8
  let v3026 : BitVec 32 := Scalar.addi v2976 arg46
  let v3077 : Index := Scalar.indexCast v3026
  let c160_1456 : Index := 160#32
  ![v3077.toNat, 160]
def k1_off100 (v36 : BitVec 32) (v38 : BitVec 32) (k1_t6 : Fin (k1_t6_loop v36 v38).trips) (k1_t8 : Fin (k1_t8_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t8
  let v3026 : BitVec 32 := Scalar.addi v2976 arg46
  let v3082 : Index := Scalar.indexCast v3026
  let c176_1457 : Index := 176#32
  ![v3082.toNat, 176]
def k1_off101 (v36 : BitVec 32) (v38 : BitVec 32) (k1_t6 : Fin (k1_t6_loop v36 v38).trips) (k1_t8 : Fin (k1_t8_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t8
  let v3026 : BitVec 32 := Scalar.addi v2976 arg46
  let v3087 : Index := Scalar.indexCast v3026
  let c192_1458 : Index := 192#32
  ![v3087.toNat, 192]
def k1_off102 (v36 : BitVec 32) (v38 : BitVec 32) (k1_t6 : Fin (k1_t6_loop v36 v38).trips) (k1_t8 : Fin (k1_t8_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t8
  let v3026 : BitVec 32 := Scalar.addi v2976 arg46
  let v3092 : Index := Scalar.indexCast v3026
  let c208_1459 : Index := 208#32
  ![v3092.toNat, 208]
def k1_off103 (v36 : BitVec 32) (v38 : BitVec 32) (k1_t6 : Fin (k1_t6_loop v36 v38).trips) (k1_t8 : Fin (k1_t8_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t8
  let v3026 : BitVec 32 := Scalar.addi v2976 arg46
  let v3097 : Index := Scalar.indexCast v3026
  let c224_1460 : Index := 224#32
  ![v3097.toNat, 224]
def k1_off104 (v36 : BitVec 32) (v38 : BitVec 32) (k1_t6 : Fin (k1_t6_loop v36 v38).trips) (k1_t8 : Fin (k1_t8_loop v36 v38 k1_t6).trips) : Fin 2 → Nat :=
  let c2_i32_1408 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2949 : BitVec 32 := Scalar.muli c2_i32_1408 arg13
  let c64_i32_1410 : BitVec 32 := 64#32
  let v2953 : BitVec 32 := Scalar.muli v2949 c64_i32_1410
  let v2954 : BitVec 32 := Scalar.addi v36 v2953
  let c64_i32_1411 : BitVec 32 := 64#32
  let v2955 : BitVec 32 := Scalar.muli v2949 c64_i32_1411
  let v2956 : BitVec 32 := Scalar.addi v36 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v38 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t8
  let v3026 : BitVec 32 := Scalar.addi v2976 arg46
  let v3102 : Index := Scalar.indexCast v3026
  let c240_1461 : Index := 240#32
  ![v3102.toNat, 240]
def k1_off105 (i : grid1.Coords) (v36 : BitVec 32) (v38 : BitVec 32) (k1_t6 : Fin (k1_t6_loop v36 v38).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v36 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond8 (v36 : BitVec 32) (v38 : BitVec 32) (k1_t6 : Fin (k1_t6_loop v36 v38).trips) : BitVec 1 :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let v2989 : BitVec 1 := Scalar.cmpi .slt v2988 v60
  let v2990 : BitVec 32 := Scalar.extui v2989
  let c0_i32_1428 : BitVec 32 := 0#32
  let v2991 : BitVec 1 := Scalar.cmpi .ne v2990 c0_i32_1428
  v2991

def k1_off106 (i : grid1.Coords) (v36 : BitVec 32) (v38 : BitVec 32) (k1_t6 : Fin (k1_t6_loop v36 v38).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v36 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond9 (v36 : BitVec 32) (v38 : BitVec 32) (k1_t6 : Fin (k1_t6_loop v36 v38).trips) : BitVec 1 :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v3050 : BitVec 1 := Scalar.cmpi .slt v3049 v60
  let v3051 : BitVec 32 := Scalar.extui v3050
  let c0_i32_1457 : BitVec 32 := 0#32
  let v3052 : BitVec 1 := Scalar.cmpi .ne v3051 c0_i32_1457
  v3052

@[reducible] def k1_t9_loop (v36 : BitVec 32) (v38 : BitVec 32) (k1_t6 : Fin (k1_t6_loop v36 v38).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off107 (v36 : BitVec 32) (v38 : BitVec 32) (k1_t6 : Fin (k1_t6_loop v36 v38).trips) (k1_t9 : Fin (k1_t9_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t9
  let v3026 : BitVec 32 := Scalar.addi v3015 arg46
  let v3027 : Index := Scalar.indexCast v3026
  let c0_1446 : Index := 0#32
  ![v3027.toNat, 0]
def k1_off108 (v36 : BitVec 32) (v38 : BitVec 32) (k1_t6 : Fin (k1_t6_loop v36 v38).trips) (k1_t9 : Fin (k1_t9_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t9
  let v3026 : BitVec 32 := Scalar.addi v3015 arg46
  let v3032 : Index := Scalar.indexCast v3026
  let c16_1447 : Index := 16#32
  ![v3032.toNat, 16]
def k1_off109 (v36 : BitVec 32) (v38 : BitVec 32) (k1_t6 : Fin (k1_t6_loop v36 v38).trips) (k1_t9 : Fin (k1_t9_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t9
  let v3026 : BitVec 32 := Scalar.addi v3015 arg46
  let v3037 : Index := Scalar.indexCast v3026
  let c32_1448 : Index := 32#32
  ![v3037.toNat, 32]
def k1_off110 (v36 : BitVec 32) (v38 : BitVec 32) (k1_t6 : Fin (k1_t6_loop v36 v38).trips) (k1_t9 : Fin (k1_t9_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t9
  let v3026 : BitVec 32 := Scalar.addi v3015 arg46
  let v3042 : Index := Scalar.indexCast v3026
  let c48_1449 : Index := 48#32
  ![v3042.toNat, 48]
def k1_off111 (v36 : BitVec 32) (v38 : BitVec 32) (k1_t6 : Fin (k1_t6_loop v36 v38).trips) (k1_t9 : Fin (k1_t9_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t9
  let v3026 : BitVec 32 := Scalar.addi v3015 arg46
  let v3047 : Index := Scalar.indexCast v3026
  let c64_1450 : Index := 64#32
  ![v3047.toNat, 64]
def k1_off112 (v36 : BitVec 32) (v38 : BitVec 32) (k1_t6 : Fin (k1_t6_loop v36 v38).trips) (k1_t9 : Fin (k1_t9_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t9
  let v3026 : BitVec 32 := Scalar.addi v3015 arg46
  let v3052 : Index := Scalar.indexCast v3026
  let c80_1451 : Index := 80#32
  ![v3052.toNat, 80]
def k1_off113 (v36 : BitVec 32) (v38 : BitVec 32) (k1_t6 : Fin (k1_t6_loop v36 v38).trips) (k1_t9 : Fin (k1_t9_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t9
  let v3026 : BitVec 32 := Scalar.addi v3015 arg46
  let v3057 : Index := Scalar.indexCast v3026
  let c96_1452 : Index := 96#32
  ![v3057.toNat, 96]
def k1_off114 (v36 : BitVec 32) (v38 : BitVec 32) (k1_t6 : Fin (k1_t6_loop v36 v38).trips) (k1_t9 : Fin (k1_t9_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t9
  let v3026 : BitVec 32 := Scalar.addi v3015 arg46
  let v3062 : Index := Scalar.indexCast v3026
  let c112_1453 : Index := 112#32
  ![v3062.toNat, 112]
def k1_off115 (v36 : BitVec 32) (v38 : BitVec 32) (k1_t6 : Fin (k1_t6_loop v36 v38).trips) (k1_t9 : Fin (k1_t9_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t9
  let v3026 : BitVec 32 := Scalar.addi v3015 arg46
  let v3067 : Index := Scalar.indexCast v3026
  let c128_1454 : Index := 128#32
  ![v3067.toNat, 128]
def k1_off116 (v36 : BitVec 32) (v38 : BitVec 32) (k1_t6 : Fin (k1_t6_loop v36 v38).trips) (k1_t9 : Fin (k1_t9_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t9
  let v3026 : BitVec 32 := Scalar.addi v3015 arg46
  let v3072 : Index := Scalar.indexCast v3026
  let c144_1455 : Index := 144#32
  ![v3072.toNat, 144]
def k1_off117 (v36 : BitVec 32) (v38 : BitVec 32) (k1_t6 : Fin (k1_t6_loop v36 v38).trips) (k1_t9 : Fin (k1_t9_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t9
  let v3026 : BitVec 32 := Scalar.addi v3015 arg46
  let v3077 : Index := Scalar.indexCast v3026
  let c160_1456 : Index := 160#32
  ![v3077.toNat, 160]
def k1_off118 (v36 : BitVec 32) (v38 : BitVec 32) (k1_t6 : Fin (k1_t6_loop v36 v38).trips) (k1_t9 : Fin (k1_t9_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t9
  let v3026 : BitVec 32 := Scalar.addi v3015 arg46
  let v3082 : Index := Scalar.indexCast v3026
  let c176_1457 : Index := 176#32
  ![v3082.toNat, 176]
def k1_off119 (v36 : BitVec 32) (v38 : BitVec 32) (k1_t6 : Fin (k1_t6_loop v36 v38).trips) (k1_t9 : Fin (k1_t9_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t9
  let v3026 : BitVec 32 := Scalar.addi v3015 arg46
  let v3087 : Index := Scalar.indexCast v3026
  let c192_1458 : Index := 192#32
  ![v3087.toNat, 192]
def k1_off120 (v36 : BitVec 32) (v38 : BitVec 32) (k1_t6 : Fin (k1_t6_loop v36 v38).trips) (k1_t9 : Fin (k1_t9_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t9
  let v3026 : BitVec 32 := Scalar.addi v3015 arg46
  let v3092 : Index := Scalar.indexCast v3026
  let c208_1459 : Index := 208#32
  ![v3092.toNat, 208]
def k1_off121 (v36 : BitVec 32) (v38 : BitVec 32) (k1_t6 : Fin (k1_t6_loop v36 v38).trips) (k1_t9 : Fin (k1_t9_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t9
  let v3026 : BitVec 32 := Scalar.addi v3015 arg46
  let v3097 : Index := Scalar.indexCast v3026
  let c224_1460 : Index := 224#32
  ![v3097.toNat, 224]
def k1_off122 (v36 : BitVec 32) (v38 : BitVec 32) (k1_t6 : Fin (k1_t6_loop v36 v38).trips) (k1_t9 : Fin (k1_t9_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t9
  let v3026 : BitVec 32 := Scalar.addi v3015 arg46
  let v3102 : Index := Scalar.indexCast v3026
  let c240_1461 : Index := 240#32
  ![v3102.toNat, 240]
@[reducible] def k1_t10_loop (v36 : BitVec 32) (v38 : BitVec 32) (k1_t6 : Fin (k1_t6_loop v36 v38).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off123 (v36 : BitVec 32) (v38 : BitVec 32) (k1_t6 : Fin (k1_t6_loop v36 v38).trips) (k1_t10 : Fin (k1_t10_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t10
  let v3026 : BitVec 32 := Scalar.addi v3015 arg46
  let v3027 : Index := Scalar.indexCast v3026
  let c0_1446 : Index := 0#32
  ![v3027.toNat, 0]
def k1_off124 (v36 : BitVec 32) (v38 : BitVec 32) (k1_t6 : Fin (k1_t6_loop v36 v38).trips) (k1_t10 : Fin (k1_t10_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t10
  let v3026 : BitVec 32 := Scalar.addi v3015 arg46
  let v3032 : Index := Scalar.indexCast v3026
  let c16_1447 : Index := 16#32
  ![v3032.toNat, 16]
def k1_off125 (v36 : BitVec 32) (v38 : BitVec 32) (k1_t6 : Fin (k1_t6_loop v36 v38).trips) (k1_t10 : Fin (k1_t10_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t10
  let v3026 : BitVec 32 := Scalar.addi v3015 arg46
  let v3037 : Index := Scalar.indexCast v3026
  let c32_1448 : Index := 32#32
  ![v3037.toNat, 32]
def k1_off126 (v36 : BitVec 32) (v38 : BitVec 32) (k1_t6 : Fin (k1_t6_loop v36 v38).trips) (k1_t10 : Fin (k1_t10_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t10
  let v3026 : BitVec 32 := Scalar.addi v3015 arg46
  let v3042 : Index := Scalar.indexCast v3026
  let c48_1449 : Index := 48#32
  ![v3042.toNat, 48]
def k1_off127 (v36 : BitVec 32) (v38 : BitVec 32) (k1_t6 : Fin (k1_t6_loop v36 v38).trips) (k1_t10 : Fin (k1_t10_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t10
  let v3026 : BitVec 32 := Scalar.addi v3015 arg46
  let v3047 : Index := Scalar.indexCast v3026
  let c64_1450 : Index := 64#32
  ![v3047.toNat, 64]
def k1_off128 (v36 : BitVec 32) (v38 : BitVec 32) (k1_t6 : Fin (k1_t6_loop v36 v38).trips) (k1_t10 : Fin (k1_t10_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t10
  let v3026 : BitVec 32 := Scalar.addi v3015 arg46
  let v3052 : Index := Scalar.indexCast v3026
  let c80_1451 : Index := 80#32
  ![v3052.toNat, 80]
def k1_off129 (v36 : BitVec 32) (v38 : BitVec 32) (k1_t6 : Fin (k1_t6_loop v36 v38).trips) (k1_t10 : Fin (k1_t10_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t10
  let v3026 : BitVec 32 := Scalar.addi v3015 arg46
  let v3057 : Index := Scalar.indexCast v3026
  let c96_1452 : Index := 96#32
  ![v3057.toNat, 96]
def k1_off130 (v36 : BitVec 32) (v38 : BitVec 32) (k1_t6 : Fin (k1_t6_loop v36 v38).trips) (k1_t10 : Fin (k1_t10_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t10
  let v3026 : BitVec 32 := Scalar.addi v3015 arg46
  let v3062 : Index := Scalar.indexCast v3026
  let c112_1453 : Index := 112#32
  ![v3062.toNat, 112]
def k1_off131 (v36 : BitVec 32) (v38 : BitVec 32) (k1_t6 : Fin (k1_t6_loop v36 v38).trips) (k1_t10 : Fin (k1_t10_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t10
  let v3026 : BitVec 32 := Scalar.addi v3015 arg46
  let v3067 : Index := Scalar.indexCast v3026
  let c128_1454 : Index := 128#32
  ![v3067.toNat, 128]
def k1_off132 (v36 : BitVec 32) (v38 : BitVec 32) (k1_t6 : Fin (k1_t6_loop v36 v38).trips) (k1_t10 : Fin (k1_t10_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t10
  let v3026 : BitVec 32 := Scalar.addi v3015 arg46
  let v3072 : Index := Scalar.indexCast v3026
  let c144_1455 : Index := 144#32
  ![v3072.toNat, 144]
def k1_off133 (v36 : BitVec 32) (v38 : BitVec 32) (k1_t6 : Fin (k1_t6_loop v36 v38).trips) (k1_t10 : Fin (k1_t10_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t10
  let v3026 : BitVec 32 := Scalar.addi v3015 arg46
  let v3077 : Index := Scalar.indexCast v3026
  let c160_1456 : Index := 160#32
  ![v3077.toNat, 160]
def k1_off134 (v36 : BitVec 32) (v38 : BitVec 32) (k1_t6 : Fin (k1_t6_loop v36 v38).trips) (k1_t10 : Fin (k1_t10_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t10
  let v3026 : BitVec 32 := Scalar.addi v3015 arg46
  let v3082 : Index := Scalar.indexCast v3026
  let c176_1457 : Index := 176#32
  ![v3082.toNat, 176]
def k1_off135 (v36 : BitVec 32) (v38 : BitVec 32) (k1_t6 : Fin (k1_t6_loop v36 v38).trips) (k1_t10 : Fin (k1_t10_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t10
  let v3026 : BitVec 32 := Scalar.addi v3015 arg46
  let v3087 : Index := Scalar.indexCast v3026
  let c192_1458 : Index := 192#32
  ![v3087.toNat, 192]
def k1_off136 (v36 : BitVec 32) (v38 : BitVec 32) (k1_t6 : Fin (k1_t6_loop v36 v38).trips) (k1_t10 : Fin (k1_t10_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t10
  let v3026 : BitVec 32 := Scalar.addi v3015 arg46
  let v3092 : Index := Scalar.indexCast v3026
  let c208_1459 : Index := 208#32
  ![v3092.toNat, 208]
def k1_off137 (v36 : BitVec 32) (v38 : BitVec 32) (k1_t6 : Fin (k1_t6_loop v36 v38).trips) (k1_t10 : Fin (k1_t10_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t10
  let v3026 : BitVec 32 := Scalar.addi v3015 arg46
  let v3097 : Index := Scalar.indexCast v3026
  let c224_1460 : Index := 224#32
  ![v3097.toNat, 224]
def k1_off138 (v36 : BitVec 32) (v38 : BitVec 32) (k1_t6 : Fin (k1_t6_loop v36 v38).trips) (k1_t10 : Fin (k1_t10_loop v36 v38 k1_t6).trips) : Fin 2 → Nat :=
  let c2_i32_1426 : BitVec 32 := 2#32
  let c0_i32_30 : BitVec 32 := 0#32
  let v41 : BitVec 32 := Scalar.subi v38 v36
  let c64_i32 : BitVec 32 := 64#32
  let v42 : BitVec 32 := Scalar.addi v41 c64_i32
  let c1_i32_12 : BitVec 32 := 1#32
  let v43 : BitVec 32 := Scalar.subi v42 c1_i32_12
  let c0_i32_14 : BitVec 32 := 0#32
  let v45 : BitVec 1 := Scalar.cmpi .sgt v43 c0_i32_14
  let v46 : BitVec 32 := Scalar.extui v45
  let c0_i32_15 : BitVec 32 := 0#32
  let v47 : BitVec 1 := Scalar.cmpi .slt v43 c0_i32_15
  let v48 : BitVec 32 := Scalar.extui v47
  let v49 : BitVec 32 := Scalar.subi v46 v48
  let c64_i32_13 : BitVec 32 := 64#32
  let c0_i32_16 : BitVec 32 := 0#32
  let v50 : BitVec 1 := Scalar.cmpi .sgt c64_i32_13 c0_i32_16
  let v51 : BitVec 32 := Scalar.extui v50
  let c0_i32_17 : BitVec 32 := 0#32
  let v52 : BitVec 1 := Scalar.cmpi .slt c64_i32_13 c0_i32_17
  let v53 : BitVec 32 := Scalar.extui v52
  let v54 : BitVec 32 := Scalar.subi v51 v53
  let v55 : BitVec 1 := Scalar.cmpi .ne v49 v54
  let v56 : BitVec 32 := Scalar.remsi v43 c64_i32_13
  let c0_i32_18 : BitVec 32 := 0#32
  let v57 : BitVec 1 := Scalar.cmpi .ne v56 c0_i32_18
  let v58 : BitVec 1 := Scalar.andi v55 v57
  let v44 : BitVec 32 := Scalar.divsi v43 c64_i32_13
  let c1_i32_19 : BitVec 32 := 1#32
  let v59 : BitVec 32 := Scalar.subi v44 c1_i32_19
  let v60 : BitVec 32 := Scalar.select v58 v59 v44
  let c1_i32_22 : BitVec 32 := 1#32
  let v64 : BitVec 32 := Scalar.addi v60 c1_i32_22
  let c0_i32_24 : BitVec 32 := 0#32
  let v66 : BitVec 1 := Scalar.cmpi .sgt v64 c0_i32_24
  let v67 : BitVec 32 := Scalar.extui v66
  let c0_i32_25 : BitVec 32 := 0#32
  let v68 : BitVec 1 := Scalar.cmpi .slt v64 c0_i32_25
  let v69 : BitVec 32 := Scalar.extui v68
  let v70 : BitVec 32 := Scalar.subi v67 v69
  let c2_i32_23 : BitVec 32 := 2#32
  let c0_i32_26 : BitVec 32 := 0#32
  let v71 : BitVec 1 := Scalar.cmpi .sgt c2_i32_23 c0_i32_26
  let v72 : BitVec 32 := Scalar.extui v71
  let c0_i32_27 : BitVec 32 := 0#32
  let v73 : BitVec 1 := Scalar.cmpi .slt c2_i32_23 c0_i32_27
  let v74 : BitVec 32 := Scalar.extui v73
  let v75 : BitVec 32 := Scalar.subi v72 v74
  let v76 : BitVec 1 := Scalar.cmpi .ne v70 v75
  let v77 : BitVec 32 := Scalar.remsi v64 c2_i32_23
  let c0_i32_28 : BitVec 32 := 0#32
  let v78 : BitVec 1 := Scalar.cmpi .ne v77 c0_i32_28
  let v79 : BitVec 1 := Scalar.andi v76 v78
  let v65 : BitVec 32 := Scalar.divsi v64 c2_i32_23
  let c1_i32_29 : BitVec 32 := 1#32
  let v80 : BitVec 32 := Scalar.subi v65 c1_i32_29
  let v81 : BitVec 32 := Scalar.select v79 v80 v65
  let v82 : BitVec 32 := Scalar.subi v81 c0_i32_30
  let c1_i32_31 : BitVec 32 := 1#32
  let v84 : BitVec 32 := Scalar.divsi v82 c1_i32_31
  let v85 : BitVec 32 := Scalar.muli v84 c1_i32_31
  let v86 : BitVec 32 := Scalar.addi c0_i32_30 v85
  let c1_i32_33 : BitVec 32 := 1#32
  let arg13 : BitVec 32 := Scf.iv v86 c1_i32_33 k1_t6
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v36 v2992
  let c64_i32_1430 : BitVec 32 := 64#32
  let v2994 : BitVec 32 := Scalar.muli v2988 c64_i32_1430
  let v2995 : BitVec 32 := Scalar.addi v36 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v38 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t10
  let v3026 : BitVec 32 := Scalar.addi v3015 arg46
  let v3102 : Index := Scalar.indexCast v3026
  let c240_1461 : Index := 240#32
  ![v3102.toNat, 240]

def k1_chk1_0 (i : grid1.Coords) (v36 : BitVec 32) (v38 : BitVec 32) : Prop :=
  (∀ (k1_h1 : k1_cond1 v36 v38 = 1#1), ∀ a, (k1_off2 i v36) a + S72x256.size a ≤ S100000x512.size a) ∧
  ((k1_t1_loop v36 v38).OK) ∧
  (∀ k1_t1 : Fin (k1_t1_loop v36 v38).trips, ∀ (k1_h2 : k1_cond2 v36 v38 k1_t1 = 1#1), ∀ a, (k1_off3 i v36 v38 k1_t1) a + S72x256.size a ≤ S100000x512.size a) ∧
  (∀ k1_t1 : Fin (k1_t1_loop v36 v38).trips, ∀ (k1_h2 : k1_cond2 v36 v38 k1_t1 = 1#1), ∀ (k1_h3 : k1_cond3 v36 v38 k1_t1 = 1#1), ∀ a, (k1_off4 i v36 v38 k1_t1) a + S72x256.size a ≤ S100000x512.size a) ∧
  (∀ k1_t1 : Fin (k1_t1_loop v36 v38).trips, (k1_t2_loop v36 v38 k1_t1).OK) ∧
  (∀ (k1_t1 : Fin (k1_t1_loop v36 v38).trips) (k1_t2 : Fin (k1_t2_loop v36 v38 k1_t1).trips), ∀ a, (k1_off5 v36 v38 k1_t1 k1_t2) a + S1x16.size a ≤ S72x256.size a) ∧
  (∀ (k1_t1 : Fin (k1_t1_loop v36 v38).trips) (k1_t2 : Fin (k1_t2_loop v36 v38 k1_t1).trips), ∀ a, (k1_off6 v36 v38 k1_t1 k1_t2) a + S1x16.size a ≤ S72x256.size a) ∧
  (∀ (k1_t1 : Fin (k1_t1_loop v36 v38).trips) (k1_t2 : Fin (k1_t2_loop v36 v38 k1_t1).trips), ∀ a, (k1_off7 v36 v38 k1_t1 k1_t2) a + S1x16.size a ≤ S72x256.size a) ∧
  (∀ (k1_t1 : Fin (k1_t1_loop v36 v38).trips) (k1_t2 : Fin (k1_t2_loop v36 v38 k1_t1).trips), ∀ a, (k1_off8 v36 v38 k1_t1 k1_t2) a + S1x16.size a ≤ S72x256.size a) ∧
  (∀ (k1_t1 : Fin (k1_t1_loop v36 v38).trips) (k1_t2 : Fin (k1_t2_loop v36 v38 k1_t1).trips), ∀ a, (k1_off9 v36 v38 k1_t1 k1_t2) a + S1x16.size a ≤ S72x256.size a) ∧
  (∀ (k1_t1 : Fin (k1_t1_loop v36 v38).trips) (k1_t2 : Fin (k1_t2_loop v36 v38 k1_t1).trips), ∀ a, (k1_off10 v36 v38 k1_t1 k1_t2) a + S1x16.size a ≤ S72x256.size a) ∧
  (∀ (k1_t1 : Fin (k1_t1_loop v36 v38).trips) (k1_t2 : Fin (k1_t2_loop v36 v38 k1_t1).trips), ∀ a, (k1_off11 v36 v38 k1_t1 k1_t2) a + S1x16.size a ≤ S72x256.size a) ∧
  (∀ (k1_t1 : Fin (k1_t1_loop v36 v38).trips) (k1_t2 : Fin (k1_t2_loop v36 v38 k1_t1).trips), ∀ a, (k1_off12 v36 v38 k1_t1 k1_t2) a + S1x16.size a ≤ S72x256.size a) ∧
  (∀ (k1_t1 : Fin (k1_t1_loop v36 v38).trips) (k1_t2 : Fin (k1_t2_loop v36 v38 k1_t1).trips), ∀ a, (k1_off13 v36 v38 k1_t1 k1_t2) a + S1x16.size a ≤ S72x256.size a) ∧
  (∀ (k1_t1 : Fin (k1_t1_loop v36 v38).trips) (k1_t2 : Fin (k1_t2_loop v36 v38 k1_t1).trips), ∀ a, (k1_off14 v36 v38 k1_t1 k1_t2) a + S1x16.size a ≤ S72x256.size a) ∧
  (∀ (k1_t1 : Fin (k1_t1_loop v36 v38).trips) (k1_t2 : Fin (k1_t2_loop v36 v38 k1_t1).trips), ∀ a, (k1_off15 v36 v38 k1_t1 k1_t2) a + S1x16.size a ≤ S72x256.size a) ∧
  (∀ (k1_t1 : Fin (k1_t1_loop v36 v38).trips) (k1_t2 : Fin (k1_t2_loop v36 v38 k1_t1).trips), ∀ a, (k1_off16 v36 v38 k1_t1 k1_t2) a + S1x16.size a ≤ S72x256.size a) ∧
  (∀ (k1_t1 : Fin (k1_t1_loop v36 v38).trips) (k1_t2 : Fin (k1_t2_loop v36 v38 k1_t1).trips), ∀ a, (k1_off17 v36 v38 k1_t1 k1_t2) a + S1x16.size a ≤ S72x256.size a) ∧
  (∀ (k1_t1 : Fin (k1_t1_loop v36 v38).trips) (k1_t2 : Fin (k1_t2_loop v36 v38 k1_t1).trips), ∀ a, (k1_off18 v36 v38 k1_t1 k1_t2) a + S1x16.size a ≤ S72x256.size a) ∧
  (∀ (k1_t1 : Fin (k1_t1_loop v36 v38).trips) (k1_t2 : Fin (k1_t2_loop v36 v38 k1_t1).trips), ∀ a, (k1_off19 v36 v38 k1_t1 k1_t2) a + S1x16.size a ≤ S72x256.size a) ∧
  (∀ (k1_t1 : Fin (k1_t1_loop v36 v38).trips) (k1_t2 : Fin (k1_t2_loop v36 v38 k1_t1).trips), ∀ a, (k1_off20 v36 v38 k1_t1 k1_t2) a + S1x16.size a ≤ S72x256.size a) ∧
  (∀ k1_t1 : Fin (k1_t1_loop v36 v38).trips, (k1_t3_loop v36 v38 k1_t1).OK) ∧
  (∀ (k1_t1 : Fin (k1_t1_loop v36 v38).trips) (k1_t3 : Fin (k1_t3_loop v36 v38 k1_t1).trips), ∀ a, (k1_off21 v36 v38 k1_t1 k1_t3) a + S1x16.size a ≤ S72x256.size a) ∧
  (∀ (k1_t1 : Fin (k1_t1_loop v36 v38).trips) (k1_t3 : Fin (k1_t3_loop v36 v38 k1_t1).trips), ∀ a, (k1_off22 v36 v38 k1_t1 k1_t3) a + S1x16.size a ≤ S72x256.size a) ∧
  (∀ (k1_t1 : Fin (k1_t1_loop v36 v38).trips) (k1_t3 : Fin (k1_t3_loop v36 v38 k1_t1).trips), ∀ a, (k1_off23 v36 v38 k1_t1 k1_t3) a + S1x16.size a ≤ S72x256.size a) ∧
  (∀ (k1_t1 : Fin (k1_t1_loop v36 v38).trips) (k1_t3 : Fin (k1_t3_loop v36 v38 k1_t1).trips), ∀ a, (k1_off24 v36 v38 k1_t1 k1_t3) a + S1x16.size a ≤ S72x256.size a) ∧
  (∀ (k1_t1 : Fin (k1_t1_loop v36 v38).trips) (k1_t3 : Fin (k1_t3_loop v36 v38 k1_t1).trips), ∀ a, (k1_off25 v36 v38 k1_t1 k1_t3) a + S1x16.size a ≤ S72x256.size a) ∧
  (∀ (k1_t1 : Fin (k1_t1_loop v36 v38).trips) (k1_t3 : Fin (k1_t3_loop v36 v38 k1_t1).trips), ∀ a, (k1_off26 v36 v38 k1_t1 k1_t3) a + S1x16.size a ≤ S72x256.size a) ∧
  (∀ (k1_t1 : Fin (k1_t1_loop v36 v38).trips) (k1_t3 : Fin (k1_t3_loop v36 v38 k1_t1).trips), ∀ a, (k1_off27 v36 v38 k1_t1 k1_t3) a + S1x16.size a ≤ S72x256.size a) ∧
  (∀ (k1_t1 : Fin (k1_t1_loop v36 v38).trips) (k1_t3 : Fin (k1_t3_loop v36 v38 k1_t1).trips), ∀ a, (k1_off28 v36 v38 k1_t1 k1_t3) a + S1x16.size a ≤ S72x256.size a) ∧
  (∀ (k1_t1 : Fin (k1_t1_loop v36 v38).trips) (k1_t3 : Fin (k1_t3_loop v36 v38 k1_t1).trips), ∀ a, (k1_off29 v36 v38 k1_t1 k1_t3) a + S1x16.size a ≤ S72x256.size a) ∧
  (∀ (k1_t1 : Fin (k1_t1_loop v36 v38).trips) (k1_t3 : Fin (k1_t3_loop v36 v38 k1_t1).trips), ∀ a, (k1_off30 v36 v38 k1_t1 k1_t3) a + S1x16.size a ≤ S72x256.size a)
def k1_chk1_1 (i : grid1.Coords) (v36 : BitVec 32) (v38 : BitVec 32) : Prop :=
  (∀ (k1_t1 : Fin (k1_t1_loop v36 v38).trips) (k1_t3 : Fin (k1_t3_loop v36 v38 k1_t1).trips), ∀ a, (k1_off31 v36 v38 k1_t1 k1_t3) a + S1x16.size a ≤ S72x256.size a) ∧
  (∀ (k1_t1 : Fin (k1_t1_loop v36 v38).trips) (k1_t3 : Fin (k1_t3_loop v36 v38 k1_t1).trips), ∀ a, (k1_off32 v36 v38 k1_t1 k1_t3) a + S1x16.size a ≤ S72x256.size a) ∧
  (∀ (k1_t1 : Fin (k1_t1_loop v36 v38).trips) (k1_t3 : Fin (k1_t3_loop v36 v38 k1_t1).trips), ∀ a, (k1_off33 v36 v38 k1_t1 k1_t3) a + S1x16.size a ≤ S72x256.size a) ∧
  (∀ (k1_t1 : Fin (k1_t1_loop v36 v38).trips) (k1_t3 : Fin (k1_t3_loop v36 v38 k1_t1).trips), ∀ a, (k1_off34 v36 v38 k1_t1 k1_t3) a + S1x16.size a ≤ S72x256.size a) ∧
  (∀ (k1_t1 : Fin (k1_t1_loop v36 v38).trips) (k1_t3 : Fin (k1_t3_loop v36 v38 k1_t1).trips), ∀ a, (k1_off35 v36 v38 k1_t1 k1_t3) a + S1x16.size a ≤ S72x256.size a) ∧
  (∀ (k1_t1 : Fin (k1_t1_loop v36 v38).trips) (k1_t3 : Fin (k1_t3_loop v36 v38 k1_t1).trips), ∀ a, (k1_off36 v36 v38 k1_t1 k1_t3) a + S1x16.size a ≤ S72x256.size a) ∧
  (∀ k1_t1 : Fin (k1_t1_loop v36 v38).trips, ∀ (k1_h4 : k1_cond4 v36 v38 k1_t1 = 1#1), ∀ a, (k1_off37 i v36 v38 k1_t1) a + S72x256.size a ≤ S100000x512.size a) ∧
  (∀ k1_t1 : Fin (k1_t1_loop v36 v38).trips, ∀ (k1_h4 : k1_cond4 v36 v38 k1_t1 = 1#1), ∀ (k1_h5 : k1_cond5 v36 v38 k1_t1 = 1#1), ∀ a, (k1_off38 i v36 v38 k1_t1) a + S72x256.size a ≤ S100000x512.size a) ∧
  (∀ k1_t1 : Fin (k1_t1_loop v36 v38).trips, (k1_t4_loop v36 v38 k1_t1).OK) ∧
  (∀ (k1_t1 : Fin (k1_t1_loop v36 v38).trips) (k1_t4 : Fin (k1_t4_loop v36 v38 k1_t1).trips), ∀ a, (k1_off39 v36 v38 k1_t1 k1_t4) a + S1x16.size a ≤ S72x256.size a) ∧
  (∀ (k1_t1 : Fin (k1_t1_loop v36 v38).trips) (k1_t4 : Fin (k1_t4_loop v36 v38 k1_t1).trips), ∀ a, (k1_off40 v36 v38 k1_t1 k1_t4) a + S1x16.size a ≤ S72x256.size a) ∧
  (∀ (k1_t1 : Fin (k1_t1_loop v36 v38).trips) (k1_t4 : Fin (k1_t4_loop v36 v38 k1_t1).trips), ∀ a, (k1_off41 v36 v38 k1_t1 k1_t4) a + S1x16.size a ≤ S72x256.size a) ∧
  (∀ (k1_t1 : Fin (k1_t1_loop v36 v38).trips) (k1_t4 : Fin (k1_t4_loop v36 v38 k1_t1).trips), ∀ a, (k1_off42 v36 v38 k1_t1 k1_t4) a + S1x16.size a ≤ S72x256.size a) ∧
  (∀ (k1_t1 : Fin (k1_t1_loop v36 v38).trips) (k1_t4 : Fin (k1_t4_loop v36 v38 k1_t1).trips), ∀ a, (k1_off43 v36 v38 k1_t1 k1_t4) a + S1x16.size a ≤ S72x256.size a) ∧
  (∀ (k1_t1 : Fin (k1_t1_loop v36 v38).trips) (k1_t4 : Fin (k1_t4_loop v36 v38 k1_t1).trips), ∀ a, (k1_off44 v36 v38 k1_t1 k1_t4) a + S1x16.size a ≤ S72x256.size a) ∧
  (∀ (k1_t1 : Fin (k1_t1_loop v36 v38).trips) (k1_t4 : Fin (k1_t4_loop v36 v38 k1_t1).trips), ∀ a, (k1_off45 v36 v38 k1_t1 k1_t4) a + S1x16.size a ≤ S72x256.size a) ∧
  (∀ (k1_t1 : Fin (k1_t1_loop v36 v38).trips) (k1_t4 : Fin (k1_t4_loop v36 v38 k1_t1).trips), ∀ a, (k1_off46 v36 v38 k1_t1 k1_t4) a + S1x16.size a ≤ S72x256.size a) ∧
  (∀ (k1_t1 : Fin (k1_t1_loop v36 v38).trips) (k1_t4 : Fin (k1_t4_loop v36 v38 k1_t1).trips), ∀ a, (k1_off47 v36 v38 k1_t1 k1_t4) a + S1x16.size a ≤ S72x256.size a) ∧
  (∀ (k1_t1 : Fin (k1_t1_loop v36 v38).trips) (k1_t4 : Fin (k1_t4_loop v36 v38 k1_t1).trips), ∀ a, (k1_off48 v36 v38 k1_t1 k1_t4) a + S1x16.size a ≤ S72x256.size a) ∧
  (∀ (k1_t1 : Fin (k1_t1_loop v36 v38).trips) (k1_t4 : Fin (k1_t4_loop v36 v38 k1_t1).trips), ∀ a, (k1_off49 v36 v38 k1_t1 k1_t4) a + S1x16.size a ≤ S72x256.size a) ∧
  (∀ (k1_t1 : Fin (k1_t1_loop v36 v38).trips) (k1_t4 : Fin (k1_t4_loop v36 v38 k1_t1).trips), ∀ a, (k1_off50 v36 v38 k1_t1 k1_t4) a + S1x16.size a ≤ S72x256.size a) ∧
  (∀ (k1_t1 : Fin (k1_t1_loop v36 v38).trips) (k1_t4 : Fin (k1_t4_loop v36 v38 k1_t1).trips), ∀ a, (k1_off51 v36 v38 k1_t1 k1_t4) a + S1x16.size a ≤ S72x256.size a) ∧
  (∀ (k1_t1 : Fin (k1_t1_loop v36 v38).trips) (k1_t4 : Fin (k1_t4_loop v36 v38 k1_t1).trips), ∀ a, (k1_off52 v36 v38 k1_t1 k1_t4) a + S1x16.size a ≤ S72x256.size a) ∧
  (∀ (k1_t1 : Fin (k1_t1_loop v36 v38).trips) (k1_t4 : Fin (k1_t4_loop v36 v38 k1_t1).trips), ∀ a, (k1_off53 v36 v38 k1_t1 k1_t4) a + S1x16.size a ≤ S72x256.size a) ∧
  (∀ (k1_t1 : Fin (k1_t1_loop v36 v38).trips) (k1_t4 : Fin (k1_t4_loop v36 v38 k1_t1).trips), ∀ a, (k1_off54 v36 v38 k1_t1 k1_t4) a + S1x16.size a ≤ S72x256.size a) ∧
  (∀ k1_t1 : Fin (k1_t1_loop v36 v38).trips, (k1_t5_loop v36 v38 k1_t1).OK) ∧
  (∀ (k1_t1 : Fin (k1_t1_loop v36 v38).trips) (k1_t5 : Fin (k1_t5_loop v36 v38 k1_t1).trips), ∀ a, (k1_off55 v36 v38 k1_t1 k1_t5) a + S1x16.size a ≤ S72x256.size a) ∧
  (∀ (k1_t1 : Fin (k1_t1_loop v36 v38).trips) (k1_t5 : Fin (k1_t5_loop v36 v38 k1_t1).trips), ∀ a, (k1_off56 v36 v38 k1_t1 k1_t5) a + S1x16.size a ≤ S72x256.size a) ∧
  (∀ (k1_t1 : Fin (k1_t1_loop v36 v38).trips) (k1_t5 : Fin (k1_t5_loop v36 v38 k1_t1).trips), ∀ a, (k1_off57 v36 v38 k1_t1 k1_t5) a + S1x16.size a ≤ S72x256.size a) ∧
  (∀ (k1_t1 : Fin (k1_t1_loop v36 v38).trips) (k1_t5 : Fin (k1_t5_loop v36 v38 k1_t1).trips), ∀ a, (k1_off58 v36 v38 k1_t1 k1_t5) a + S1x16.size a ≤ S72x256.size a) ∧
  (∀ (k1_t1 : Fin (k1_t1_loop v36 v38).trips) (k1_t5 : Fin (k1_t5_loop v36 v38 k1_t1).trips), ∀ a, (k1_off59 v36 v38 k1_t1 k1_t5) a + S1x16.size a ≤ S72x256.size a) ∧
  (∀ (k1_t1 : Fin (k1_t1_loop v36 v38).trips) (k1_t5 : Fin (k1_t5_loop v36 v38 k1_t1).trips), ∀ a, (k1_off60 v36 v38 k1_t1 k1_t5) a + S1x16.size a ≤ S72x256.size a)
def k1_chk1_2 (i : grid1.Coords) (v36 : BitVec 32) (v38 : BitVec 32) : Prop :=
  (∀ (k1_t1 : Fin (k1_t1_loop v36 v38).trips) (k1_t5 : Fin (k1_t5_loop v36 v38 k1_t1).trips), ∀ a, (k1_off61 v36 v38 k1_t1 k1_t5) a + S1x16.size a ≤ S72x256.size a) ∧
  (∀ (k1_t1 : Fin (k1_t1_loop v36 v38).trips) (k1_t5 : Fin (k1_t5_loop v36 v38 k1_t1).trips), ∀ a, (k1_off62 v36 v38 k1_t1 k1_t5) a + S1x16.size a ≤ S72x256.size a) ∧
  (∀ (k1_t1 : Fin (k1_t1_loop v36 v38).trips) (k1_t5 : Fin (k1_t5_loop v36 v38 k1_t1).trips), ∀ a, (k1_off63 v36 v38 k1_t1 k1_t5) a + S1x16.size a ≤ S72x256.size a) ∧
  (∀ (k1_t1 : Fin (k1_t1_loop v36 v38).trips) (k1_t5 : Fin (k1_t5_loop v36 v38 k1_t1).trips), ∀ a, (k1_off64 v36 v38 k1_t1 k1_t5) a + S1x16.size a ≤ S72x256.size a) ∧
  (∀ (k1_t1 : Fin (k1_t1_loop v36 v38).trips) (k1_t5 : Fin (k1_t5_loop v36 v38 k1_t1).trips), ∀ a, (k1_off65 v36 v38 k1_t1 k1_t5) a + S1x16.size a ≤ S72x256.size a) ∧
  (∀ (k1_t1 : Fin (k1_t1_loop v36 v38).trips) (k1_t5 : Fin (k1_t5_loop v36 v38 k1_t1).trips), ∀ a, (k1_off66 v36 v38 k1_t1 k1_t5) a + S1x16.size a ≤ S72x256.size a) ∧
  (∀ (k1_t1 : Fin (k1_t1_loop v36 v38).trips) (k1_t5 : Fin (k1_t5_loop v36 v38 k1_t1).trips), ∀ a, (k1_off67 v36 v38 k1_t1 k1_t5) a + S1x16.size a ≤ S72x256.size a) ∧
  (∀ (k1_t1 : Fin (k1_t1_loop v36 v38).trips) (k1_t5 : Fin (k1_t5_loop v36 v38 k1_t1).trips), ∀ a, (k1_off68 v36 v38 k1_t1 k1_t5) a + S1x16.size a ≤ S72x256.size a) ∧
  (∀ (k1_t1 : Fin (k1_t1_loop v36 v38).trips) (k1_t5 : Fin (k1_t5_loop v36 v38 k1_t1).trips), ∀ a, (k1_off69 v36 v38 k1_t1 k1_t5) a + S1x16.size a ≤ S72x256.size a) ∧
  (∀ (k1_t1 : Fin (k1_t1_loop v36 v38).trips) (k1_t5 : Fin (k1_t5_loop v36 v38 k1_t1).trips), ∀ a, (k1_off70 v36 v38 k1_t1 k1_t5) a + S1x16.size a ≤ S72x256.size a) ∧
  ((k1_t6_loop v36 v38).OK) ∧
  (∀ k1_t6 : Fin (k1_t6_loop v36 v38).trips, ∀ (k1_h6 : k1_cond6 v36 v38 k1_t6 = 1#1), ∀ a, (k1_off71 i v36 v38 k1_t6) a + S72x256.size a ≤ S100000x512.size a) ∧
  (∀ k1_t6 : Fin (k1_t6_loop v36 v38).trips, ∀ (k1_h6 : k1_cond6 v36 v38 k1_t6 = 1#1), ∀ (k1_h7 : k1_cond7 v36 v38 k1_t6 = 1#1), ∀ a, (k1_off72 i v36 v38 k1_t6) a + S72x256.size a ≤ S100000x512.size a) ∧
  (∀ k1_t6 : Fin (k1_t6_loop v36 v38).trips, (k1_t7_loop v36 v38 k1_t6).OK) ∧
  (∀ (k1_t6 : Fin (k1_t6_loop v36 v38).trips) (k1_t7 : Fin (k1_t7_loop v36 v38 k1_t6).trips), ∀ a, (k1_off73 v36 v38 k1_t6 k1_t7) a + S1x16.size a ≤ S72x256.size a) ∧
  (∀ (k1_t6 : Fin (k1_t6_loop v36 v38).trips) (k1_t7 : Fin (k1_t7_loop v36 v38 k1_t6).trips), ∀ a, (k1_off74 v36 v38 k1_t6 k1_t7) a + S1x16.size a ≤ S72x256.size a) ∧
  (∀ (k1_t6 : Fin (k1_t6_loop v36 v38).trips) (k1_t7 : Fin (k1_t7_loop v36 v38 k1_t6).trips), ∀ a, (k1_off75 v36 v38 k1_t6 k1_t7) a + S1x16.size a ≤ S72x256.size a) ∧
  (∀ (k1_t6 : Fin (k1_t6_loop v36 v38).trips) (k1_t7 : Fin (k1_t7_loop v36 v38 k1_t6).trips), ∀ a, (k1_off76 v36 v38 k1_t6 k1_t7) a + S1x16.size a ≤ S72x256.size a) ∧
  (∀ (k1_t6 : Fin (k1_t6_loop v36 v38).trips) (k1_t7 : Fin (k1_t7_loop v36 v38 k1_t6).trips), ∀ a, (k1_off77 v36 v38 k1_t6 k1_t7) a + S1x16.size a ≤ S72x256.size a) ∧
  (∀ (k1_t6 : Fin (k1_t6_loop v36 v38).trips) (k1_t7 : Fin (k1_t7_loop v36 v38 k1_t6).trips), ∀ a, (k1_off78 v36 v38 k1_t6 k1_t7) a + S1x16.size a ≤ S72x256.size a) ∧
  (∀ (k1_t6 : Fin (k1_t6_loop v36 v38).trips) (k1_t7 : Fin (k1_t7_loop v36 v38 k1_t6).trips), ∀ a, (k1_off79 v36 v38 k1_t6 k1_t7) a + S1x16.size a ≤ S72x256.size a) ∧
  (∀ (k1_t6 : Fin (k1_t6_loop v36 v38).trips) (k1_t7 : Fin (k1_t7_loop v36 v38 k1_t6).trips), ∀ a, (k1_off80 v36 v38 k1_t6 k1_t7) a + S1x16.size a ≤ S72x256.size a) ∧
  (∀ (k1_t6 : Fin (k1_t6_loop v36 v38).trips) (k1_t7 : Fin (k1_t7_loop v36 v38 k1_t6).trips), ∀ a, (k1_off81 v36 v38 k1_t6 k1_t7) a + S1x16.size a ≤ S72x256.size a) ∧
  (∀ (k1_t6 : Fin (k1_t6_loop v36 v38).trips) (k1_t7 : Fin (k1_t7_loop v36 v38 k1_t6).trips), ∀ a, (k1_off82 v36 v38 k1_t6 k1_t7) a + S1x16.size a ≤ S72x256.size a) ∧
  (∀ (k1_t6 : Fin (k1_t6_loop v36 v38).trips) (k1_t7 : Fin (k1_t7_loop v36 v38 k1_t6).trips), ∀ a, (k1_off83 v36 v38 k1_t6 k1_t7) a + S1x16.size a ≤ S72x256.size a) ∧
  (∀ (k1_t6 : Fin (k1_t6_loop v36 v38).trips) (k1_t7 : Fin (k1_t7_loop v36 v38 k1_t6).trips), ∀ a, (k1_off84 v36 v38 k1_t6 k1_t7) a + S1x16.size a ≤ S72x256.size a) ∧
  (∀ (k1_t6 : Fin (k1_t6_loop v36 v38).trips) (k1_t7 : Fin (k1_t7_loop v36 v38 k1_t6).trips), ∀ a, (k1_off85 v36 v38 k1_t6 k1_t7) a + S1x16.size a ≤ S72x256.size a) ∧
  (∀ (k1_t6 : Fin (k1_t6_loop v36 v38).trips) (k1_t7 : Fin (k1_t7_loop v36 v38 k1_t6).trips), ∀ a, (k1_off86 v36 v38 k1_t6 k1_t7) a + S1x16.size a ≤ S72x256.size a) ∧
  (∀ (k1_t6 : Fin (k1_t6_loop v36 v38).trips) (k1_t7 : Fin (k1_t7_loop v36 v38 k1_t6).trips), ∀ a, (k1_off87 v36 v38 k1_t6 k1_t7) a + S1x16.size a ≤ S72x256.size a) ∧
  (∀ (k1_t6 : Fin (k1_t6_loop v36 v38).trips) (k1_t7 : Fin (k1_t7_loop v36 v38 k1_t6).trips), ∀ a, (k1_off88 v36 v38 k1_t6 k1_t7) a + S1x16.size a ≤ S72x256.size a) ∧
  (∀ k1_t6 : Fin (k1_t6_loop v36 v38).trips, (k1_t8_loop v36 v38 k1_t6).OK) ∧
  (∀ (k1_t6 : Fin (k1_t6_loop v36 v38).trips) (k1_t8 : Fin (k1_t8_loop v36 v38 k1_t6).trips), ∀ a, (k1_off89 v36 v38 k1_t6 k1_t8) a + S1x16.size a ≤ S72x256.size a)
def k1_chk1_3 (i : grid1.Coords) (v36 : BitVec 32) (v38 : BitVec 32) : Prop :=
  (∀ (k1_t6 : Fin (k1_t6_loop v36 v38).trips) (k1_t8 : Fin (k1_t8_loop v36 v38 k1_t6).trips), ∀ a, (k1_off90 v36 v38 k1_t6 k1_t8) a + S1x16.size a ≤ S72x256.size a) ∧
  (∀ (k1_t6 : Fin (k1_t6_loop v36 v38).trips) (k1_t8 : Fin (k1_t8_loop v36 v38 k1_t6).trips), ∀ a, (k1_off91 v36 v38 k1_t6 k1_t8) a + S1x16.size a ≤ S72x256.size a) ∧
  (∀ (k1_t6 : Fin (k1_t6_loop v36 v38).trips) (k1_t8 : Fin (k1_t8_loop v36 v38 k1_t6).trips), ∀ a, (k1_off92 v36 v38 k1_t6 k1_t8) a + S1x16.size a ≤ S72x256.size a) ∧
  (∀ (k1_t6 : Fin (k1_t6_loop v36 v38).trips) (k1_t8 : Fin (k1_t8_loop v36 v38 k1_t6).trips), ∀ a, (k1_off93 v36 v38 k1_t6 k1_t8) a + S1x16.size a ≤ S72x256.size a) ∧
  (∀ (k1_t6 : Fin (k1_t6_loop v36 v38).trips) (k1_t8 : Fin (k1_t8_loop v36 v38 k1_t6).trips), ∀ a, (k1_off94 v36 v38 k1_t6 k1_t8) a + S1x16.size a ≤ S72x256.size a) ∧
  (∀ (k1_t6 : Fin (k1_t6_loop v36 v38).trips) (k1_t8 : Fin (k1_t8_loop v36 v38 k1_t6).trips), ∀ a, (k1_off95 v36 v38 k1_t6 k1_t8) a + S1x16.size a ≤ S72x256.size a) ∧
  (∀ (k1_t6 : Fin (k1_t6_loop v36 v38).trips) (k1_t8 : Fin (k1_t8_loop v36 v38 k1_t6).trips), ∀ a, (k1_off96 v36 v38 k1_t6 k1_t8) a + S1x16.size a ≤ S72x256.size a) ∧
  (∀ (k1_t6 : Fin (k1_t6_loop v36 v38).trips) (k1_t8 : Fin (k1_t8_loop v36 v38 k1_t6).trips), ∀ a, (k1_off97 v36 v38 k1_t6 k1_t8) a + S1x16.size a ≤ S72x256.size a) ∧
  (∀ (k1_t6 : Fin (k1_t6_loop v36 v38).trips) (k1_t8 : Fin (k1_t8_loop v36 v38 k1_t6).trips), ∀ a, (k1_off98 v36 v38 k1_t6 k1_t8) a + S1x16.size a ≤ S72x256.size a) ∧
  (∀ (k1_t6 : Fin (k1_t6_loop v36 v38).trips) (k1_t8 : Fin (k1_t8_loop v36 v38 k1_t6).trips), ∀ a, (k1_off99 v36 v38 k1_t6 k1_t8) a + S1x16.size a ≤ S72x256.size a) ∧
  (∀ (k1_t6 : Fin (k1_t6_loop v36 v38).trips) (k1_t8 : Fin (k1_t8_loop v36 v38 k1_t6).trips), ∀ a, (k1_off100 v36 v38 k1_t6 k1_t8) a + S1x16.size a ≤ S72x256.size a) ∧
  (∀ (k1_t6 : Fin (k1_t6_loop v36 v38).trips) (k1_t8 : Fin (k1_t8_loop v36 v38 k1_t6).trips), ∀ a, (k1_off101 v36 v38 k1_t6 k1_t8) a + S1x16.size a ≤ S72x256.size a) ∧
  (∀ (k1_t6 : Fin (k1_t6_loop v36 v38).trips) (k1_t8 : Fin (k1_t8_loop v36 v38 k1_t6).trips), ∀ a, (k1_off102 v36 v38 k1_t6 k1_t8) a + S1x16.size a ≤ S72x256.size a) ∧
  (∀ (k1_t6 : Fin (k1_t6_loop v36 v38).trips) (k1_t8 : Fin (k1_t8_loop v36 v38 k1_t6).trips), ∀ a, (k1_off103 v36 v38 k1_t6 k1_t8) a + S1x16.size a ≤ S72x256.size a) ∧
  (∀ (k1_t6 : Fin (k1_t6_loop v36 v38).trips) (k1_t8 : Fin (k1_t8_loop v36 v38 k1_t6).trips), ∀ a, (k1_off104 v36 v38 k1_t6 k1_t8) a + S1x16.size a ≤ S72x256.size a) ∧
  (∀ k1_t6 : Fin (k1_t6_loop v36 v38).trips, ∀ (k1_h8 : k1_cond8 v36 v38 k1_t6 = 1#1), ∀ a, (k1_off105 i v36 v38 k1_t6) a + S72x256.size a ≤ S100000x512.size a) ∧
  (∀ k1_t6 : Fin (k1_t6_loop v36 v38).trips, ∀ (k1_h8 : k1_cond8 v36 v38 k1_t6 = 1#1), ∀ (k1_h9 : k1_cond9 v36 v38 k1_t6 = 1#1), ∀ a, (k1_off106 i v36 v38 k1_t6) a + S72x256.size a ≤ S100000x512.size a) ∧
  (∀ k1_t6 : Fin (k1_t6_loop v36 v38).trips, (k1_t9_loop v36 v38 k1_t6).OK) ∧
  (∀ (k1_t6 : Fin (k1_t6_loop v36 v38).trips) (k1_t9 : Fin (k1_t9_loop v36 v38 k1_t6).trips), ∀ a, (k1_off107 v36 v38 k1_t6 k1_t9) a + S1x16.size a ≤ S72x256.size a) ∧
  (∀ (k1_t6 : Fin (k1_t6_loop v36 v38).trips) (k1_t9 : Fin (k1_t9_loop v36 v38 k1_t6).trips), ∀ a, (k1_off108 v36 v38 k1_t6 k1_t9) a + S1x16.size a ≤ S72x256.size a) ∧
  (∀ (k1_t6 : Fin (k1_t6_loop v36 v38).trips) (k1_t9 : Fin (k1_t9_loop v36 v38 k1_t6).trips), ∀ a, (k1_off109 v36 v38 k1_t6 k1_t9) a + S1x16.size a ≤ S72x256.size a) ∧
  (∀ (k1_t6 : Fin (k1_t6_loop v36 v38).trips) (k1_t9 : Fin (k1_t9_loop v36 v38 k1_t6).trips), ∀ a, (k1_off110 v36 v38 k1_t6 k1_t9) a + S1x16.size a ≤ S72x256.size a) ∧
  (∀ (k1_t6 : Fin (k1_t6_loop v36 v38).trips) (k1_t9 : Fin (k1_t9_loop v36 v38 k1_t6).trips), ∀ a, (k1_off111 v36 v38 k1_t6 k1_t9) a + S1x16.size a ≤ S72x256.size a) ∧
  (∀ (k1_t6 : Fin (k1_t6_loop v36 v38).trips) (k1_t9 : Fin (k1_t9_loop v36 v38 k1_t6).trips), ∀ a, (k1_off112 v36 v38 k1_t6 k1_t9) a + S1x16.size a ≤ S72x256.size a) ∧
  (∀ (k1_t6 : Fin (k1_t6_loop v36 v38).trips) (k1_t9 : Fin (k1_t9_loop v36 v38 k1_t6).trips), ∀ a, (k1_off113 v36 v38 k1_t6 k1_t9) a + S1x16.size a ≤ S72x256.size a) ∧
  (∀ (k1_t6 : Fin (k1_t6_loop v36 v38).trips) (k1_t9 : Fin (k1_t9_loop v36 v38 k1_t6).trips), ∀ a, (k1_off114 v36 v38 k1_t6 k1_t9) a + S1x16.size a ≤ S72x256.size a) ∧
  (∀ (k1_t6 : Fin (k1_t6_loop v36 v38).trips) (k1_t9 : Fin (k1_t9_loop v36 v38 k1_t6).trips), ∀ a, (k1_off115 v36 v38 k1_t6 k1_t9) a + S1x16.size a ≤ S72x256.size a) ∧
  (∀ (k1_t6 : Fin (k1_t6_loop v36 v38).trips) (k1_t9 : Fin (k1_t9_loop v36 v38 k1_t6).trips), ∀ a, (k1_off116 v36 v38 k1_t6 k1_t9) a + S1x16.size a ≤ S72x256.size a) ∧
  (∀ (k1_t6 : Fin (k1_t6_loop v36 v38).trips) (k1_t9 : Fin (k1_t9_loop v36 v38 k1_t6).trips), ∀ a, (k1_off117 v36 v38 k1_t6 k1_t9) a + S1x16.size a ≤ S72x256.size a) ∧
  (∀ (k1_t6 : Fin (k1_t6_loop v36 v38).trips) (k1_t9 : Fin (k1_t9_loop v36 v38 k1_t6).trips), ∀ a, (k1_off118 v36 v38 k1_t6 k1_t9) a + S1x16.size a ≤ S72x256.size a) ∧
  (∀ (k1_t6 : Fin (k1_t6_loop v36 v38).trips) (k1_t9 : Fin (k1_t9_loop v36 v38 k1_t6).trips), ∀ a, (k1_off119 v36 v38 k1_t6 k1_t9) a + S1x16.size a ≤ S72x256.size a) ∧
  (∀ (k1_t6 : Fin (k1_t6_loop v36 v38).trips) (k1_t9 : Fin (k1_t9_loop v36 v38 k1_t6).trips), ∀ a, (k1_off120 v36 v38 k1_t6 k1_t9) a + S1x16.size a ≤ S72x256.size a)
def k1_chk1_4 (i : grid1.Coords) (v36 : BitVec 32) (v38 : BitVec 32) : Prop :=
  (∀ (k1_t6 : Fin (k1_t6_loop v36 v38).trips) (k1_t9 : Fin (k1_t9_loop v36 v38 k1_t6).trips), ∀ a, (k1_off121 v36 v38 k1_t6 k1_t9) a + S1x16.size a ≤ S72x256.size a) ∧
  (∀ (k1_t6 : Fin (k1_t6_loop v36 v38).trips) (k1_t9 : Fin (k1_t9_loop v36 v38 k1_t6).trips), ∀ a, (k1_off122 v36 v38 k1_t6 k1_t9) a + S1x16.size a ≤ S72x256.size a) ∧
  (∀ k1_t6 : Fin (k1_t6_loop v36 v38).trips, (k1_t10_loop v36 v38 k1_t6).OK) ∧
  (∀ (k1_t6 : Fin (k1_t6_loop v36 v38).trips) (k1_t10 : Fin (k1_t10_loop v36 v38 k1_t6).trips), ∀ a, (k1_off123 v36 v38 k1_t6 k1_t10) a + S1x16.size a ≤ S72x256.size a) ∧
  (∀ (k1_t6 : Fin (k1_t6_loop v36 v38).trips) (k1_t10 : Fin (k1_t10_loop v36 v38 k1_t6).trips), ∀ a, (k1_off124 v36 v38 k1_t6 k1_t10) a + S1x16.size a ≤ S72x256.size a) ∧
  (∀ (k1_t6 : Fin (k1_t6_loop v36 v38).trips) (k1_t10 : Fin (k1_t10_loop v36 v38 k1_t6).trips), ∀ a, (k1_off125 v36 v38 k1_t6 k1_t10) a + S1x16.size a ≤ S72x256.size a) ∧
  (∀ (k1_t6 : Fin (k1_t6_loop v36 v38).trips) (k1_t10 : Fin (k1_t10_loop v36 v38 k1_t6).trips), ∀ a, (k1_off126 v36 v38 k1_t6 k1_t10) a + S1x16.size a ≤ S72x256.size a) ∧
  (∀ (k1_t6 : Fin (k1_t6_loop v36 v38).trips) (k1_t10 : Fin (k1_t10_loop v36 v38 k1_t6).trips), ∀ a, (k1_off127 v36 v38 k1_t6 k1_t10) a + S1x16.size a ≤ S72x256.size a) ∧
  (∀ (k1_t6 : Fin (k1_t6_loop v36 v38).trips) (k1_t10 : Fin (k1_t10_loop v36 v38 k1_t6).trips), ∀ a, (k1_off128 v36 v38 k1_t6 k1_t10) a + S1x16.size a ≤ S72x256.size a) ∧
  (∀ (k1_t6 : Fin (k1_t6_loop v36 v38).trips) (k1_t10 : Fin (k1_t10_loop v36 v38 k1_t6).trips), ∀ a, (k1_off129 v36 v38 k1_t6 k1_t10) a + S1x16.size a ≤ S72x256.size a) ∧
  (∀ (k1_t6 : Fin (k1_t6_loop v36 v38).trips) (k1_t10 : Fin (k1_t10_loop v36 v38 k1_t6).trips), ∀ a, (k1_off130 v36 v38 k1_t6 k1_t10) a + S1x16.size a ≤ S72x256.size a) ∧
  (∀ (k1_t6 : Fin (k1_t6_loop v36 v38).trips) (k1_t10 : Fin (k1_t10_loop v36 v38 k1_t6).trips), ∀ a, (k1_off131 v36 v38 k1_t6 k1_t10) a + S1x16.size a ≤ S72x256.size a) ∧
  (∀ (k1_t6 : Fin (k1_t6_loop v36 v38).trips) (k1_t10 : Fin (k1_t10_loop v36 v38 k1_t6).trips), ∀ a, (k1_off132 v36 v38 k1_t6 k1_t10) a + S1x16.size a ≤ S72x256.size a) ∧
  (∀ (k1_t6 : Fin (k1_t6_loop v36 v38).trips) (k1_t10 : Fin (k1_t10_loop v36 v38 k1_t6).trips), ∀ a, (k1_off133 v36 v38 k1_t6 k1_t10) a + S1x16.size a ≤ S72x256.size a) ∧
  (∀ (k1_t6 : Fin (k1_t6_loop v36 v38).trips) (k1_t10 : Fin (k1_t10_loop v36 v38 k1_t6).trips), ∀ a, (k1_off134 v36 v38 k1_t6 k1_t10) a + S1x16.size a ≤ S72x256.size a) ∧
  (∀ (k1_t6 : Fin (k1_t6_loop v36 v38).trips) (k1_t10 : Fin (k1_t10_loop v36 v38 k1_t6).trips), ∀ a, (k1_off135 v36 v38 k1_t6 k1_t10) a + S1x16.size a ≤ S72x256.size a) ∧
  (∀ (k1_t6 : Fin (k1_t6_loop v36 v38).trips) (k1_t10 : Fin (k1_t10_loop v36 v38 k1_t6).trips), ∀ a, (k1_off136 v36 v38 k1_t6 k1_t10) a + S1x16.size a ≤ S72x256.size a) ∧
  (∀ (k1_t6 : Fin (k1_t6_loop v36 v38).trips) (k1_t10 : Fin (k1_t10_loop v36 v38 k1_t6).trips), ∀ a, (k1_off137 v36 v38 k1_t6 k1_t10) a + S1x16.size a ≤ S72x256.size a) ∧
  (∀ (k1_t6 : Fin (k1_t6_loop v36 v38).trips) (k1_t10 : Fin (k1_t10_loop v36 v38 k1_t6).trips), ∀ a, (k1_off138 v36 v38 k1_t6 k1_t10) a + S1x16.size a ≤ S72x256.size a)
def k1_chk1 (i : grid1.Coords) (v36 : BitVec 32) (v38 : BitVec 32) : Prop :=
  k1_chk1_0 i v36 v38 ∧
  k1_chk1_1 i v36 v38 ∧
  k1_chk1_2 i v36 v38 ∧
  k1_chk1_3 i v36 v38 ∧
  k1_chk1_4 i v36 v38
theorem k1_off2_inb : ∀ (i : grid1.Coords) (v36 : BitVec 32) (v38 : BitVec 32) (k1_hw1 : k1_chk1 i v36 v38), ∀ (k1_h1 : k1_cond1 v36 v38 = 1#1), ∀ a, (k1_off2 i v36) a + S72x256.size a ≤ S100000x512.size a := fun i v36 v38 k1_hw1 k1_h1 => k1_hw1.1.1 k1_h1
theorem k1_t1_ok : ∀ (i : grid1.Coords) (v36 : BitVec 32) (v38 : BitVec 32) (k1_hw1 : k1_chk1 i v36 v38), (k1_t1_loop v36 v38).OK := fun i v36 v38 k1_hw1 => k1_hw1.1.2.1
theorem k1_off3_inb : ∀ (i : grid1.Coords) (v36 : BitVec 32) (v38 : BitVec 32) (k1_hw1 : k1_chk1 i v36 v38) (k1_t1 : Fin (k1_t1_loop v36 v38).trips), ∀ (k1_h2 : k1_cond2 v36 v38 k1_t1 = 1#1), ∀ a, (k1_off3 i v36 v38 k1_t1) a + S72x256.size a ≤ S100000x512.size a := fun i v36 v38 k1_hw1 k1_t1 k1_h2 => k1_hw1.1.2.2.1 k1_t1 k1_h2
theorem k1_off4_inb : ∀ (i : grid1.Coords) (v36 : BitVec 32) (v38 : BitVec 32) (k1_hw1 : k1_chk1 i v36 v38) (k1_t1 : Fin (k1_t1_loop v36 v38).trips), ∀ (k1_h2 : k1_cond2 v36 v38 k1_t1 = 1#1), ∀ (k1_h3 : k1_cond3 v36 v38 k1_t1 = 1#1), ∀ a, (k1_off4 i v36 v38 k1_t1) a + S72x256.size a ≤ S100000x512.size a := fun i v36 v38 k1_hw1 k1_t1 k1_h2 k1_h3 => k1_hw1.1.2.2.2.1 k1_t1 k1_h2 k1_h3
theorem k1_t2_ok : ∀ (i : grid1.Coords) (v36 : BitVec 32) (v38 : BitVec 32) (k1_hw1 : k1_chk1 i v36 v38) (k1_t1 : Fin (k1_t1_loop v36 v38).trips), (k1_t2_loop v36 v38 k1_t1).OK := fun i v36 v38 k1_hw1 k1_t1 => k1_hw1.1.2.2.2.2.1 k1_t1
theorem k1_off5_inb : ∀ (i : grid1.Coords) (v36 : BitVec 32) (v38 : BitVec 32) (k1_hw1 : k1_chk1 i v36 v38) (k1_t1 : Fin (k1_t1_loop v36 v38).trips) (k1_t2 : Fin (k1_t2_loop v36 v38 k1_t1).trips), ∀ a, (k1_off5 v36 v38 k1_t1 k1_t2) a + S1x16.size a ≤ S72x256.size a := fun i v36 v38 k1_hw1 k1_t1 k1_t2 => k1_hw1.1.2.2.2.2.2.1 k1_t1 k1_t2
theorem k1_off6_inb : ∀ (i : grid1.Coords) (v36 : BitVec 32) (v38 : BitVec 32) (k1_hw1 : k1_chk1 i v36 v38) (k1_t1 : Fin (k1_t1_loop v36 v38).trips) (k1_t2 : Fin (k1_t2_loop v36 v38 k1_t1).trips), ∀ a, (k1_off6 v36 v38 k1_t1 k1_t2) a + S1x16.size a ≤ S72x256.size a := fun i v36 v38 k1_hw1 k1_t1 k1_t2 => k1_hw1.1.2.2.2.2.2.2.1 k1_t1 k1_t2
theorem k1_off7_inb : ∀ (i : grid1.Coords) (v36 : BitVec 32) (v38 : BitVec 32) (k1_hw1 : k1_chk1 i v36 v38) (k1_t1 : Fin (k1_t1_loop v36 v38).trips) (k1_t2 : Fin (k1_t2_loop v36 v38 k1_t1).trips), ∀ a, (k1_off7 v36 v38 k1_t1 k1_t2) a + S1x16.size a ≤ S72x256.size a := fun i v36 v38 k1_hw1 k1_t1 k1_t2 => k1_hw1.1.2.2.2.2.2.2.2.1 k1_t1 k1_t2
theorem k1_off8_inb : ∀ (i : grid1.Coords) (v36 : BitVec 32) (v38 : BitVec 32) (k1_hw1 : k1_chk1 i v36 v38) (k1_t1 : Fin (k1_t1_loop v36 v38).trips) (k1_t2 : Fin (k1_t2_loop v36 v38 k1_t1).trips), ∀ a, (k1_off8 v36 v38 k1_t1 k1_t2) a + S1x16.size a ≤ S72x256.size a := fun i v36 v38 k1_hw1 k1_t1 k1_t2 => k1_hw1.1.2.2.2.2.2.2.2.2.1 k1_t1 k1_t2
theorem k1_off9_inb : ∀ (i : grid1.Coords) (v36 : BitVec 32) (v38 : BitVec 32) (k1_hw1 : k1_chk1 i v36 v38) (k1_t1 : Fin (k1_t1_loop v36 v38).trips) (k1_t2 : Fin (k1_t2_loop v36 v38 k1_t1).trips), ∀ a, (k1_off9 v36 v38 k1_t1 k1_t2) a + S1x16.size a ≤ S72x256.size a := fun i v36 v38 k1_hw1 k1_t1 k1_t2 => k1_hw1.1.2.2.2.2.2.2.2.2.2.1 k1_t1 k1_t2
theorem k1_off10_inb : ∀ (i : grid1.Coords) (v36 : BitVec 32) (v38 : BitVec 32) (k1_hw1 : k1_chk1 i v36 v38) (k1_t1 : Fin (k1_t1_loop v36 v38).trips) (k1_t2 : Fin (k1_t2_loop v36 v38 k1_t1).trips), ∀ a, (k1_off10 v36 v38 k1_t1 k1_t2) a + S1x16.size a ≤ S72x256.size a := fun i v36 v38 k1_hw1 k1_t1 k1_t2 => k1_hw1.1.2.2.2.2.2.2.2.2.2.2.1 k1_t1 k1_t2
theorem k1_off11_inb : ∀ (i : grid1.Coords) (v36 : BitVec 32) (v38 : BitVec 32) (k1_hw1 : k1_chk1 i v36 v38) (k1_t1 : Fin (k1_t1_loop v36 v38).trips) (k1_t2 : Fin (k1_t2_loop v36 v38 k1_t1).trips), ∀ a, (k1_off11 v36 v38 k1_t1 k1_t2) a + S1x16.size a ≤ S72x256.size a := fun i v36 v38 k1_hw1 k1_t1 k1_t2 => k1_hw1.1.2.2.2.2.2.2.2.2.2.2.2.1 k1_t1 k1_t2
theorem k1_off12_inb : ∀ (i : grid1.Coords) (v36 : BitVec 32) (v38 : BitVec 32) (k1_hw1 : k1_chk1 i v36 v38) (k1_t1 : Fin (k1_t1_loop v36 v38).trips) (k1_t2 : Fin (k1_t2_loop v36 v38 k1_t1).trips), ∀ a, (k1_off12 v36 v38 k1_t1 k1_t2) a + S1x16.size a ≤ S72x256.size a := fun i v36 v38 k1_hw1 k1_t1 k1_t2 => k1_hw1.1.2.2.2.2.2.2.2.2.2.2.2.2.1 k1_t1 k1_t2
theorem k1_off13_inb : ∀ (i : grid1.Coords) (v36 : BitVec 32) (v38 : BitVec 32) (k1_hw1 : k1_chk1 i v36 v38) (k1_t1 : Fin (k1_t1_loop v36 v38).trips) (k1_t2 : Fin (k1_t2_loop v36 v38 k1_t1).trips), ∀ a, (k1_off13 v36 v38 k1_t1 k1_t2) a + S1x16.size a ≤ S72x256.size a := fun i v36 v38 k1_hw1 k1_t1 k1_t2 => k1_hw1.1.2.2.2.2.2.2.2.2.2.2.2.2.2.1 k1_t1 k1_t2
theorem k1_off14_inb : ∀ (i : grid1.Coords) (v36 : BitVec 32) (v38 : BitVec 32) (k1_hw1 : k1_chk1 i v36 v38) (k1_t1 : Fin (k1_t1_loop v36 v38).trips) (k1_t2 : Fin (k1_t2_loop v36 v38 k1_t1).trips), ∀ a, (k1_off14 v36 v38 k1_t1 k1_t2) a + S1x16.size a ≤ S72x256.size a := fun i v36 v38 k1_hw1 k1_t1 k1_t2 => k1_hw1.1.2.2.2.2.2.2.2.2.2.2.2.2.2.2.1 k1_t1 k1_t2
theorem k1_off15_inb : ∀ (i : grid1.Coords) (v36 : BitVec 32) (v38 : BitVec 32) (k1_hw1 : k1_chk1 i v36 v38) (k1_t1 : Fin (k1_t1_loop v36 v38).trips) (k1_t2 : Fin (k1_t2_loop v36 v38 k1_t1).trips), ∀ a, (k1_off15 v36 v38 k1_t1 k1_t2) a + S1x16.size a ≤ S72x256.size a := fun i v36 v38 k1_hw1 k1_t1 k1_t2 => k1_hw1.1.2.2.2.2.2.2.2.2.2.2.2.2.2.2.2.1 k1_t1 k1_t2
theorem k1_off16_inb : ∀ (i : grid1.Coords) (v36 : BitVec 32) (v38 : BitVec 32) (k1_hw1 : k1_chk1 i v36 v38) (k1_t1 : Fin (k1_t1_loop v36 v38).trips) (k1_t2 : Fin (k1_t2_loop v36 v38 k1_t1).trips), ∀ a, (k1_off16 v36 v38 k1_t1 k1_t2) a + S1x16.size a ≤ S72x256.size a := fun i v36 v38 k1_hw1 k1_t1 k1_t2 => k1_hw1.1.2.2.2.2.2.2.2.2.2.2.2.2.2.2.2.2.1 k1_t1 k1_t2
theorem k1_off17_inb : ∀ (i : grid1.Coords) (v36 : BitVec 32) (v38 : BitVec 32) (k1_hw1 : k1_chk1 i v36 v38) (k1_t1 : Fin (k1_t1_loop v36 v38).trips) (k1_t2 : Fin (k1_t2_loop v36 v38 k1_t1).trips), ∀ a, (k1_off17 v36 v38 k1_t1 k1_t2) a + S1x16.size a ≤ S72x256.size a := fun i v36 v38 k1_hw1 k1_t1 k1_t2 => k1_hw1.1.2.2.2.2.2.2.2.2.2.2.2.2.2.2.2.2.2.1 k1_t1 k1_t2
theorem k1_off18_inb : ∀ (i : grid1.Coords) (v36 : BitVec 32) (v38 : BitVec 32) (k1_hw1 : k1_chk1 i v36 v38) (k1_t1 : Fin (k1_t1_loop v36 v38).trips) (k1_t2 : Fin (k1_t2_loop v36 v38 k1_t1).trips), ∀ a, (k1_off18 v36 v38 k1_t1 k1_t2) a + S1x16.size a ≤ S72x256.size a := fun i v36 v38 k1_hw1 k1_t1 k1_t2 => k1_hw1.1.2.2.2.2.2.2.2.2.2.2.2.2.2.2.2.2.2.2.1 k1_t1 k1_t2
theorem k1_off19_inb : ∀ (i : grid1.Coords) (v36 : BitVec 32) (v38 : BitVec 32) (k1_hw1 : k1_chk1 i v36 v38) (k1_t1 : Fin (k1_t1_loop v36 v38).trips) (k1_t2 : Fin (k1_t2_loop v36 v38 k1_t1).trips), ∀ a, (k1_off19 v36 v38 k1_t1 k1_t2) a + S1x16.size a ≤ S72x256.size a := fun i v36 v38 k1_hw1 k1_t1 k1_t2 => k1_hw1.1.2.2.2.2.2.2.2.2.2.2.2.2.2.2.2.2.2.2.2.1 k1_t1 k1_t2
theorem k1_off20_inb : ∀ (i : grid1.Coords) (v36 : BitVec 32) (v38 : BitVec 32) (k1_hw1 : k1_chk1 i v36 v38) (k1_t1 : Fin (k1_t1_loop v36 v38).trips) (k1_t2 : Fin (k1_t2_loop v36 v38 k1_t1).trips), ∀ a, (k1_off20 v36 v38 k1_t1 k1_t2) a + S1x16.size a ≤ S72x256.size a := fun i v36 v38 k1_hw1 k1_t1 k1_t2 => k1_hw1.1.2.2.2.2.2.2.2.2.2.2.2.2.2.2.2.2.2.2.2.2.1 k1_t1 k1_t2
theorem k1_t3_ok : ∀ (i : grid1.Coords) (v36 : BitVec 32) (v38 : BitVec 32) (k1_hw1 : k1_chk1 i v36 v38) (k1_t1 : Fin (k1_t1_loop v36 v38).trips), (k1_t3_loop v36 v38 k1_t1).OK := fun i v36 v38 k1_hw1 k1_t1 => k1_hw1.1.2.2.2.2.2.2.2.2.2.2.2.2.2.2.2.2.2.2.2.2.2.1 k1_t1
theorem k1_off21_inb : ∀ (i : grid1.Coords) (v36 : BitVec 32) (v38 : BitVec 32) (k1_hw1 : k1_chk1 i v36 v38) (k1_t1 : Fin (k1_t1_loop v36 v38).trips) (k1_t3 : Fin (k1_t3_loop v36 v38 k1_t1).trips), ∀ a, (k1_off21 v36 v38 k1_t1 k1_t3) a + S1x16.size a ≤ S72x256.size a := fun i v36 v38 k1_hw1 k1_t1 k1_t3 => k1_hw1.1.2.2.2.2.2.2.2.2.2.2.2.2.2.2.2.2.2.2.2.2.2.2.1 k1_t1 k1_t3
theorem k1_off22_inb : ∀ (i : grid1.Coords) (v36 : BitVec 32) (v38 : BitVec 32) (k1_hw1 : k1_chk1 i v36 v38) (k1_t1 : Fin (k1_t1_loop v36 v38).trips) (k1_t3 : Fin (k1_t3_loop v36 v38 k1_t1).trips), ∀ a, (k1_off22 v36 v38 k1_t1 k1_t3) a + S1x16.size a ≤ S72x256.size a := fun i v36 v38 k1_hw1 k1_t1 k1_t3 => k1_hw1.1.2.2.2.2.2.2.2.2.2.2.2.2.2.2.2.2.2.2.2.2.2.2.2.1 k1_t1 k1_t3
theorem k1_off23_inb : ∀ (i : grid1.Coords) (v36 : BitVec 32) (v38 : BitVec 32) (k1_hw1 : k1_chk1 i v36 v38) (k1_t1 : Fin (k1_t1_loop v36 v38).trips) (k1_t3 : Fin (k1_t3_loop v36 v38 k1_t1).trips), ∀ a, (k1_off23 v36 v38 k1_t1 k1_t3) a + S1x16.size a ≤ S72x256.size a := fun i v36 v38 k1_hw1 k1_t1 k1_t3 => k1_hw1.1.2.2.2.2.2.2.2.2.2.2.2.2.2.2.2.2.2.2.2.2.2.2.2.2.1 k1_t1 k1_t3
theorem k1_off24_inb : ∀ (i : grid1.Coords) (v36 : BitVec 32) (v38 : BitVec 32) (k1_hw1 : k1_chk1 i v36 v38) (k1_t1 : Fin (k1_t1_loop v36 v38).trips) (k1_t3 : Fin (k1_t3_loop v36 v38 k1_t1).trips), ∀ a, (k1_off24 v36 v38 k1_t1 k1_t3) a + S1x16.size a ≤ S72x256.size a := fun i v36 v38 k1_hw1 k1_t1 k1_t3 => k1_hw1.1.2.2.2.2.2.2.2.2.2.2.2.2.2.2.2.2.2.2.2.2.2.2.2.2.2.1 k1_t1 k1_t3
theorem k1_off25_inb : ∀ (i : grid1.Coords) (v36 : BitVec 32) (v38 : BitVec 32) (k1_hw1 : k1_chk1 i v36 v38) (k1_t1 : Fin (k1_t1_loop v36 v38).trips) (k1_t3 : Fin (k1_t3_loop v36 v38 k1_t1).trips), ∀ a, (k1_off25 v36 v38 k1_t1 k1_t3) a + S1x16.size a ≤ S72x256.size a := fun i v36 v38 k1_hw1 k1_t1 k1_t3 => k1_hw1.1.2.2.2.2.2.2.2.2.2.2.2.2.2.2.2.2.2.2.2.2.2.2.2.2.2.2.1 k1_t1 k1_t3
theorem k1_off26_inb : ∀ (i : grid1.Coords) (v36 : BitVec 32) (v38 : BitVec 32) (k1_hw1 : k1_chk1 i v36 v38) (k1_t1 : Fin (k1_t1_loop v36 v38).trips) (k1_t3 : Fin (k1_t3_loop v36 v38 k1_t1).trips), ∀ a, (k1_off26 v36 v38 k1_t1 k1_t3) a + S1x16.size a ≤ S72x256.size a := fun i v36 v38 k1_hw1 k1_t1 k1_t3 => k1_hw1.1.2.2.2.2.2.2.2.2.2.2.2.2.2.2.2.2.2.2.2.2.2.2.2.2.2.2.2.1 k1_t1 k1_t3
theorem k1_off27_inb : ∀ (i : grid1.Coords) (v36 : BitVec 32) (v38 : BitVec 32) (k1_hw1 : k1_chk1 i v36 v38) (k1_t1 : Fin (k1_t1_loop v36 v38).trips) (k1_t3 : Fin (k1_t3_loop v36 v38 k1_t1).trips), ∀ a, (k1_off27 v36 v38 k1_t1 k1_t3) a + S1x16.size a ≤ S72x256.size a := fun i v36 v38 k1_hw1 k1_t1 k1_t3 => k1_hw1.1.2.2.2.2.2.2.2.2.2.2.2.2.2.2.2.2.2.2.2.2.2.2.2.2.2.2.2.2.1 k1_t1 k1_t3
theorem k1_off28_inb : ∀ (i : grid1.Coords) (v36 : BitVec 32) (v38 : BitVec 32) (k1_hw1 : k1_chk1 i v36 v38) (k1_t1 : Fin (k1_t1_loop v36 v38).trips) (k1_t3 : Fin (k1_t3_loop v36 v38 k1_t1).trips), ∀ a, (k1_off28 v36 v38 k1_t1 k1_t3) a + S1x16.size a ≤ S72x256.size a := fun i v36 v38 k1_hw1 k1_t1 k1_t3 => k1_hw1.1.2.2.2.2.2.2.2.2.2.2.2.2.2.2.2.2.2.2.2.2.2.2.2.2.2.2.2.2.2.1 k1_t1 k1_t3
theorem k1_off29_inb : ∀ (i : grid1.Coords) (v36 : BitVec 32) (v38 : BitVec 32) (k1_hw1 : k1_chk1 i v36 v38) (k1_t1 : Fin (k1_t1_loop v36 v38).trips) (k1_t3 : Fin (k1_t3_loop v36 v38 k1_t1).trips), ∀ a, (k1_off29 v36 v38 k1_t1 k1_t3) a + S1x16.size a ≤ S72x256.size a := fun i v36 v38 k1_hw1 k1_t1 k1_t3 => k1_hw1.1.2.2.2.2.2.2.2.2.2.2.2.2.2.2.2.2.2.2.2.2.2.2.2.2.2.2.2.2.2.2.1 k1_t1 k1_t3
theorem k1_off30_inb : ∀ (i : grid1.Coords) (v36 : BitVec 32) (v38 : BitVec 32) (k1_hw1 : k1_chk1 i v36 v38) (k1_t1 : Fin (k1_t1_loop v36 v38).trips) (k1_t3 : Fin (k1_t3_loop v36 v38 k1_t1).trips), ∀ a, (k1_off30 v36 v38 k1_t1 k1_t3) a + S1x16.size a ≤ S72x256.size a := fun i v36 v38 k1_hw1 k1_t1 k1_t3 => k1_hw1.1.2.2.2.2.2.2.2.2.2.2.2.2.2.2.2.2.2.2.2.2.2.2.2.2.2.2.2.2.2.2.2 k1_t1 k1_t3
theorem k1_off31_inb : ∀ (i : grid1.Coords) (v36 : BitVec 32) (v38 : BitVec 32) (k1_hw1 : k1_chk1 i v36 v38) (k1_t1 : Fin (k1_t1_loop v36 v38).trips) (k1_t3 : Fin (k1_t3_loop v36 v38 k1_t1).trips), ∀ a, (k1_off31 v36 v38 k1_t1 k1_t3) a + S1x16.size a ≤ S72x256.size a := fun i v36 v38 k1_hw1 k1_t1 k1_t3 => k1_hw1.2.1.1 k1_t1 k1_t3
theorem k1_off32_inb : ∀ (i : grid1.Coords) (v36 : BitVec 32) (v38 : BitVec 32) (k1_hw1 : k1_chk1 i v36 v38) (k1_t1 : Fin (k1_t1_loop v36 v38).trips) (k1_t3 : Fin (k1_t3_loop v36 v38 k1_t1).trips), ∀ a, (k1_off32 v36 v38 k1_t1 k1_t3) a + S1x16.size a ≤ S72x256.size a := fun i v36 v38 k1_hw1 k1_t1 k1_t3 => k1_hw1.2.1.2.1 k1_t1 k1_t3
theorem k1_off33_inb : ∀ (i : grid1.Coords) (v36 : BitVec 32) (v38 : BitVec 32) (k1_hw1 : k1_chk1 i v36 v38) (k1_t1 : Fin (k1_t1_loop v36 v38).trips) (k1_t3 : Fin (k1_t3_loop v36 v38 k1_t1).trips), ∀ a, (k1_off33 v36 v38 k1_t1 k1_t3) a + S1x16.size a ≤ S72x256.size a := fun i v36 v38 k1_hw1 k1_t1 k1_t3 => k1_hw1.2.1.2.2.1 k1_t1 k1_t3
theorem k1_off34_inb : ∀ (i : grid1.Coords) (v36 : BitVec 32) (v38 : BitVec 32) (k1_hw1 : k1_chk1 i v36 v38) (k1_t1 : Fin (k1_t1_loop v36 v38).trips) (k1_t3 : Fin (k1_t3_loop v36 v38 k1_t1).trips), ∀ a, (k1_off34 v36 v38 k1_t1 k1_t3) a + S1x16.size a ≤ S72x256.size a := fun i v36 v38 k1_hw1 k1_t1 k1_t3 => k1_hw1.2.1.2.2.2.1 k1_t1 k1_t3
theorem k1_off35_inb : ∀ (i : grid1.Coords) (v36 : BitVec 32) (v38 : BitVec 32) (k1_hw1 : k1_chk1 i v36 v38) (k1_t1 : Fin (k1_t1_loop v36 v38).trips) (k1_t3 : Fin (k1_t3_loop v36 v38 k1_t1).trips), ∀ a, (k1_off35 v36 v38 k1_t1 k1_t3) a + S1x16.size a ≤ S72x256.size a := fun i v36 v38 k1_hw1 k1_t1 k1_t3 => k1_hw1.2.1.2.2.2.2.1 k1_t1 k1_t3
theorem k1_off36_inb : ∀ (i : grid1.Coords) (v36 : BitVec 32) (v38 : BitVec 32) (k1_hw1 : k1_chk1 i v36 v38) (k1_t1 : Fin (k1_t1_loop v36 v38).trips) (k1_t3 : Fin (k1_t3_loop v36 v38 k1_t1).trips), ∀ a, (k1_off36 v36 v38 k1_t1 k1_t3) a + S1x16.size a ≤ S72x256.size a := fun i v36 v38 k1_hw1 k1_t1 k1_t3 => k1_hw1.2.1.2.2.2.2.2.1 k1_t1 k1_t3
theorem k1_off37_inb : ∀ (i : grid1.Coords) (v36 : BitVec 32) (v38 : BitVec 32) (k1_hw1 : k1_chk1 i v36 v38) (k1_t1 : Fin (k1_t1_loop v36 v38).trips), ∀ (k1_h4 : k1_cond4 v36 v38 k1_t1 = 1#1), ∀ a, (k1_off37 i v36 v38 k1_t1) a + S72x256.size a ≤ S100000x512.size a := fun i v36 v38 k1_hw1 k1_t1 k1_h4 => k1_hw1.2.1.2.2.2.2.2.2.1 k1_t1 k1_h4
theorem k1_off38_inb : ∀ (i : grid1.Coords) (v36 : BitVec 32) (v38 : BitVec 32) (k1_hw1 : k1_chk1 i v36 v38) (k1_t1 : Fin (k1_t1_loop v36 v38).trips), ∀ (k1_h4 : k1_cond4 v36 v38 k1_t1 = 1#1), ∀ (k1_h5 : k1_cond5 v36 v38 k1_t1 = 1#1), ∀ a, (k1_off38 i v36 v38 k1_t1) a + S72x256.size a ≤ S100000x512.size a := fun i v36 v38 k1_hw1 k1_t1 k1_h4 k1_h5 => k1_hw1.2.1.2.2.2.2.2.2.2.1 k1_t1 k1_h4 k1_h5
theorem k1_t4_ok : ∀ (i : grid1.Coords) (v36 : BitVec 32) (v38 : BitVec 32) (k1_hw1 : k1_chk1 i v36 v38) (k1_t1 : Fin (k1_t1_loop v36 v38).trips), (k1_t4_loop v36 v38 k1_t1).OK := fun i v36 v38 k1_hw1 k1_t1 => k1_hw1.2.1.2.2.2.2.2.2.2.2.1 k1_t1
theorem k1_off39_inb : ∀ (i : grid1.Coords) (v36 : BitVec 32) (v38 : BitVec 32) (k1_hw1 : k1_chk1 i v36 v38) (k1_t1 : Fin (k1_t1_loop v36 v38).trips) (k1_t4 : Fin (k1_t4_loop v36 v38 k1_t1).trips), ∀ a, (k1_off39 v36 v38 k1_t1 k1_t4) a + S1x16.size a ≤ S72x256.size a := fun i v36 v38 k1_hw1 k1_t1 k1_t4 => k1_hw1.2.1.2.2.2.2.2.2.2.2.2.1 k1_t1 k1_t4
theorem k1_off40_inb : ∀ (i : grid1.Coords) (v36 : BitVec 32) (v38 : BitVec 32) (k1_hw1 : k1_chk1 i v36 v38) (k1_t1 : Fin (k1_t1_loop v36 v38).trips) (k1_t4 : Fin (k1_t4_loop v36 v38 k1_t1).trips), ∀ a, (k1_off40 v36 v38 k1_t1 k1_t4) a + S1x16.size a ≤ S72x256.size a := fun i v36 v38 k1_hw1 k1_t1 k1_t4 => k1_hw1.2.1.2.2.2.2.2.2.2.2.2.2.1 k1_t1 k1_t4
theorem k1_off41_inb : ∀ (i : grid1.Coords) (v36 : BitVec 32) (v38 : BitVec 32) (k1_hw1 : k1_chk1 i v36 v38) (k1_t1 : Fin (k1_t1_loop v36 v38).trips) (k1_t4 : Fin (k1_t4_loop v36 v38 k1_t1).trips), ∀ a, (k1_off41 v36 v38 k1_t1 k1_t4) a + S1x16.size a ≤ S72x256.size a := fun i v36 v38 k1_hw1 k1_t1 k1_t4 => k1_hw1.2.1.2.2.2.2.2.2.2.2.2.2.2.1 k1_t1 k1_t4
theorem k1_off42_inb : ∀ (i : grid1.Coords) (v36 : BitVec 32) (v38 : BitVec 32) (k1_hw1 : k1_chk1 i v36 v38) (k1_t1 : Fin (k1_t1_loop v36 v38).trips) (k1_t4 : Fin (k1_t4_loop v36 v38 k1_t1).trips), ∀ a, (k1_off42 v36 v38 k1_t1 k1_t4) a + S1x16.size a ≤ S72x256.size a := fun i v36 v38 k1_hw1 k1_t1 k1_t4 => k1_hw1.2.1.2.2.2.2.2.2.2.2.2.2.2.2.1 k1_t1 k1_t4
theorem k1_off43_inb : ∀ (i : grid1.Coords) (v36 : BitVec 32) (v38 : BitVec 32) (k1_hw1 : k1_chk1 i v36 v38) (k1_t1 : Fin (k1_t1_loop v36 v38).trips) (k1_t4 : Fin (k1_t4_loop v36 v38 k1_t1).trips), ∀ a, (k1_off43 v36 v38 k1_t1 k1_t4) a + S1x16.size a ≤ S72x256.size a := fun i v36 v38 k1_hw1 k1_t1 k1_t4 => k1_hw1.2.1.2.2.2.2.2.2.2.2.2.2.2.2.2.1 k1_t1 k1_t4
theorem k1_off44_inb : ∀ (i : grid1.Coords) (v36 : BitVec 32) (v38 : BitVec 32) (k1_hw1 : k1_chk1 i v36 v38) (k1_t1 : Fin (k1_t1_loop v36 v38).trips) (k1_t4 : Fin (k1_t4_loop v36 v38 k1_t1).trips), ∀ a, (k1_off44 v36 v38 k1_t1 k1_t4) a + S1x16.size a ≤ S72x256.size a := fun i v36 v38 k1_hw1 k1_t1 k1_t4 => k1_hw1.2.1.2.2.2.2.2.2.2.2.2.2.2.2.2.2.1 k1_t1 k1_t4
theorem k1_off45_inb : ∀ (i : grid1.Coords) (v36 : BitVec 32) (v38 : BitVec 32) (k1_hw1 : k1_chk1 i v36 v38) (k1_t1 : Fin (k1_t1_loop v36 v38).trips) (k1_t4 : Fin (k1_t4_loop v36 v38 k1_t1).trips), ∀ a, (k1_off45 v36 v38 k1_t1 k1_t4) a + S1x16.size a ≤ S72x256.size a := fun i v36 v38 k1_hw1 k1_t1 k1_t4 => k1_hw1.2.1.2.2.2.2.2.2.2.2.2.2.2.2.2.2.2.1 k1_t1 k1_t4
theorem k1_off46_inb : ∀ (i : grid1.Coords) (v36 : BitVec 32) (v38 : BitVec 32) (k1_hw1 : k1_chk1 i v36 v38) (k1_t1 : Fin (k1_t1_loop v36 v38).trips) (k1_t4 : Fin (k1_t4_loop v36 v38 k1_t1).trips), ∀ a, (k1_off46 v36 v38 k1_t1 k1_t4) a + S1x16.size a ≤ S72x256.size a := fun i v36 v38 k1_hw1 k1_t1 k1_t4 => k1_hw1.2.1.2.2.2.2.2.2.2.2.2.2.2.2.2.2.2.2.1 k1_t1 k1_t4
theorem k1_off47_inb : ∀ (i : grid1.Coords) (v36 : BitVec 32) (v38 : BitVec 32) (k1_hw1 : k1_chk1 i v36 v38) (k1_t1 : Fin (k1_t1_loop v36 v38).trips) (k1_t4 : Fin (k1_t4_loop v36 v38 k1_t1).trips), ∀ a, (k1_off47 v36 v38 k1_t1 k1_t4) a + S1x16.size a ≤ S72x256.size a := fun i v36 v38 k1_hw1 k1_t1 k1_t4 => k1_hw1.2.1.2.2.2.2.2.2.2.2.2.2.2.2.2.2.2.2.2.1 k1_t1 k1_t4
theorem k1_off48_inb : ∀ (i : grid1.Coords) (v36 : BitVec 32) (v38 : BitVec 32) (k1_hw1 : k1_chk1 i v36 v38) (k1_t1 : Fin (k1_t1_loop v36 v38).trips) (k1_t4 : Fin (k1_t4_loop v36 v38 k1_t1).trips), ∀ a, (k1_off48 v36 v38 k1_t1 k1_t4) a + S1x16.size a ≤ S72x256.size a := fun i v36 v38 k1_hw1 k1_t1 k1_t4 => k1_hw1.2.1.2.2.2.2.2.2.2.2.2.2.2.2.2.2.2.2.2.2.1 k1_t1 k1_t4
theorem k1_off49_inb : ∀ (i : grid1.Coords) (v36 : BitVec 32) (v38 : BitVec 32) (k1_hw1 : k1_chk1 i v36 v38) (k1_t1 : Fin (k1_t1_loop v36 v38).trips) (k1_t4 : Fin (k1_t4_loop v36 v38 k1_t1).trips), ∀ a, (k1_off49 v36 v38 k1_t1 k1_t4) a + S1x16.size a ≤ S72x256.size a := fun i v36 v38 k1_hw1 k1_t1 k1_t4 => k1_hw1.2.1.2.2.2.2.2.2.2.2.2.2.2.2.2.2.2.2.2.2.2.1 k1_t1 k1_t4
theorem k1_off50_inb : ∀ (i : grid1.Coords) (v36 : BitVec 32) (v38 : BitVec 32) (k1_hw1 : k1_chk1 i v36 v38) (k1_t1 : Fin (k1_t1_loop v36 v38).trips) (k1_t4 : Fin (k1_t4_loop v36 v38 k1_t1).trips), ∀ a, (k1_off50 v36 v38 k1_t1 k1_t4) a + S1x16.size a ≤ S72x256.size a := fun i v36 v38 k1_hw1 k1_t1 k1_t4 => k1_hw1.2.1.2.2.2.2.2.2.2.2.2.2.2.2.2.2.2.2.2.2.2.2.1 k1_t1 k1_t4
theorem k1_off51_inb : ∀ (i : grid1.Coords) (v36 : BitVec 32) (v38 : BitVec 32) (k1_hw1 : k1_chk1 i v36 v38) (k1_t1 : Fin (k1_t1_loop v36 v38).trips) (k1_t4 : Fin (k1_t4_loop v36 v38 k1_t1).trips), ∀ a, (k1_off51 v36 v38 k1_t1 k1_t4) a + S1x16.size a ≤ S72x256.size a := fun i v36 v38 k1_hw1 k1_t1 k1_t4 => k1_hw1.2.1.2.2.2.2.2.2.2.2.2.2.2.2.2.2.2.2.2.2.2.2.2.1 k1_t1 k1_t4
theorem k1_off52_inb : ∀ (i : grid1.Coords) (v36 : BitVec 32) (v38 : BitVec 32) (k1_hw1 : k1_chk1 i v36 v38) (k1_t1 : Fin (k1_t1_loop v36 v38).trips) (k1_t4 : Fin (k1_t4_loop v36 v38 k1_t1).trips), ∀ a, (k1_off52 v36 v38 k1_t1 k1_t4) a + S1x16.size a ≤ S72x256.size a := fun i v36 v38 k1_hw1 k1_t1 k1_t4 => k1_hw1.2.1.2.2.2.2.2.2.2.2.2.2.2.2.2.2.2.2.2.2.2.2.2.2.1 k1_t1 k1_t4
theorem k1_off53_inb : ∀ (i : grid1.Coords) (v36 : BitVec 32) (v38 : BitVec 32) (k1_hw1 : k1_chk1 i v36 v38) (k1_t1 : Fin (k1_t1_loop v36 v38).trips) (k1_t4 : Fin (k1_t4_loop v36 v38 k1_t1).trips), ∀ a, (k1_off53 v36 v38 k1_t1 k1_t4) a + S1x16.size a ≤ S72x256.size a := fun i v36 v38 k1_hw1 k1_t1 k1_t4 => k1_hw1.2.1.2.2.2.2.2.2.2.2.2.2.2.2.2.2.2.2.2.2.2.2.2.2.2.1 k1_t1 k1_t4
theorem k1_off54_inb : ∀ (i : grid1.Coords) (v36 : BitVec 32) (v38 : BitVec 32) (k1_hw1 : k1_chk1 i v36 v38) (k1_t1 : Fin (k1_t1_loop v36 v38).trips) (k1_t4 : Fin (k1_t4_loop v36 v38 k1_t1).trips), ∀ a, (k1_off54 v36 v38 k1_t1 k1_t4) a + S1x16.size a ≤ S72x256.size a := fun i v36 v38 k1_hw1 k1_t1 k1_t4 => k1_hw1.2.1.2.2.2.2.2.2.2.2.2.2.2.2.2.2.2.2.2.2.2.2.2.2.2.2.1 k1_t1 k1_t4
theorem k1_t5_ok : ∀ (i : grid1.Coords) (v36 : BitVec 32) (v38 : BitVec 32) (k1_hw1 : k1_chk1 i v36 v38) (k1_t1 : Fin (k1_t1_loop v36 v38).trips), (k1_t5_loop v36 v38 k1_t1).OK := fun i v36 v38 k1_hw1 k1_t1 => k1_hw1.2.1.2.2.2.2.2.2.2.2.2.2.2.2.2.2.2.2.2.2.2.2.2.2.2.2.2.1 k1_t1
theorem k1_off55_inb : ∀ (i : grid1.Coords) (v36 : BitVec 32) (v38 : BitVec 32) (k1_hw1 : k1_chk1 i v36 v38) (k1_t1 : Fin (k1_t1_loop v36 v38).trips) (k1_t5 : Fin (k1_t5_loop v36 v38 k1_t1).trips), ∀ a, (k1_off55 v36 v38 k1_t1 k1_t5) a + S1x16.size a ≤ S72x256.size a := fun i v36 v38 k1_hw1 k1_t1 k1_t5 => k1_hw1.2.1.2.2.2.2.2.2.2.2.2.2.2.2.2.2.2.2.2.2.2.2.2.2.2.2.2.2.1 k1_t1 k1_t5
theorem k1_off56_inb : ∀ (i : grid1.Coords) (v36 : BitVec 32) (v38 : BitVec 32) (k1_hw1 : k1_chk1 i v36 v38) (k1_t1 : Fin (k1_t1_loop v36 v38).trips) (k1_t5 : Fin (k1_t5_loop v36 v38 k1_t1).trips), ∀ a, (k1_off56 v36 v38 k1_t1 k1_t5) a + S1x16.size a ≤ S72x256.size a := fun i v36 v38 k1_hw1 k1_t1 k1_t5 => k1_hw1.2.1.2.2.2.2.2.2.2.2.2.2.2.2.2.2.2.2.2.2.2.2.2.2.2.2.2.2.2.1 k1_t1 k1_t5
theorem k1_off57_inb : ∀ (i : grid1.Coords) (v36 : BitVec 32) (v38 : BitVec 32) (k1_hw1 : k1_chk1 i v36 v38) (k1_t1 : Fin (k1_t1_loop v36 v38).trips) (k1_t5 : Fin (k1_t5_loop v36 v38 k1_t1).trips), ∀ a, (k1_off57 v36 v38 k1_t1 k1_t5) a + S1x16.size a ≤ S72x256.size a := fun i v36 v38 k1_hw1 k1_t1 k1_t5 => k1_hw1.2.1.2.2.2.2.2.2.2.2.2.2.2.2.2.2.2.2.2.2.2.2.2.2.2.2.2.2.2.2.1 k1_t1 k1_t5
theorem k1_off58_inb : ∀ (i : grid1.Coords) (v36 : BitVec 32) (v38 : BitVec 32) (k1_hw1 : k1_chk1 i v36 v38) (k1_t1 : Fin (k1_t1_loop v36 v38).trips) (k1_t5 : Fin (k1_t5_loop v36 v38 k1_t1).trips), ∀ a, (k1_off58 v36 v38 k1_t1 k1_t5) a + S1x16.size a ≤ S72x256.size a := fun i v36 v38 k1_hw1 k1_t1 k1_t5 => k1_hw1.2.1.2.2.2.2.2.2.2.2.2.2.2.2.2.2.2.2.2.2.2.2.2.2.2.2.2.2.2.2.2.1 k1_t1 k1_t5
theorem k1_off59_inb : ∀ (i : grid1.Coords) (v36 : BitVec 32) (v38 : BitVec 32) (k1_hw1 : k1_chk1 i v36 v38) (k1_t1 : Fin (k1_t1_loop v36 v38).trips) (k1_t5 : Fin (k1_t5_loop v36 v38 k1_t1).trips), ∀ a, (k1_off59 v36 v38 k1_t1 k1_t5) a + S1x16.size a ≤ S72x256.size a := fun i v36 v38 k1_hw1 k1_t1 k1_t5 => k1_hw1.2.1.2.2.2.2.2.2.2.2.2.2.2.2.2.2.2.2.2.2.2.2.2.2.2.2.2.2.2.2.2.2.1 k1_t1 k1_t5
theorem k1_off60_inb : ∀ (i : grid1.Coords) (v36 : BitVec 32) (v38 : BitVec 32) (k1_hw1 : k1_chk1 i v36 v38) (k1_t1 : Fin (k1_t1_loop v36 v38).trips) (k1_t5 : Fin (k1_t5_loop v36 v38 k1_t1).trips), ∀ a, (k1_off60 v36 v38 k1_t1 k1_t5) a + S1x16.size a ≤ S72x256.size a := fun i v36 v38 k1_hw1 k1_t1 k1_t5 => k1_hw1.2.1.2.2.2.2.2.2.2.2.2.2.2.2.2.2.2.2.2.2.2.2.2.2.2.2.2.2.2.2.2.2.2 k1_t1 k1_t5
theorem k1_off61_inb : ∀ (i : grid1.Coords) (v36 : BitVec 32) (v38 : BitVec 32) (k1_hw1 : k1_chk1 i v36 v38) (k1_t1 : Fin (k1_t1_loop v36 v38).trips) (k1_t5 : Fin (k1_t5_loop v36 v38 k1_t1).trips), ∀ a, (k1_off61 v36 v38 k1_t1 k1_t5) a + S1x16.size a ≤ S72x256.size a := fun i v36 v38 k1_hw1 k1_t1 k1_t5 => k1_hw1.2.2.1.1 k1_t1 k1_t5
theorem k1_off62_inb : ∀ (i : grid1.Coords) (v36 : BitVec 32) (v38 : BitVec 32) (k1_hw1 : k1_chk1 i v36 v38) (k1_t1 : Fin (k1_t1_loop v36 v38).trips) (k1_t5 : Fin (k1_t5_loop v36 v38 k1_t1).trips), ∀ a, (k1_off62 v36 v38 k1_t1 k1_t5) a + S1x16.size a ≤ S72x256.size a := fun i v36 v38 k1_hw1 k1_t1 k1_t5 => k1_hw1.2.2.1.2.1 k1_t1 k1_t5
theorem k1_off63_inb : ∀ (i : grid1.Coords) (v36 : BitVec 32) (v38 : BitVec 32) (k1_hw1 : k1_chk1 i v36 v38) (k1_t1 : Fin (k1_t1_loop v36 v38).trips) (k1_t5 : Fin (k1_t5_loop v36 v38 k1_t1).trips), ∀ a, (k1_off63 v36 v38 k1_t1 k1_t5) a + S1x16.size a ≤ S72x256.size a := fun i v36 v38 k1_hw1 k1_t1 k1_t5 => k1_hw1.2.2.1.2.2.1 k1_t1 k1_t5
theorem k1_off64_inb : ∀ (i : grid1.Coords) (v36 : BitVec 32) (v38 : BitVec 32) (k1_hw1 : k1_chk1 i v36 v38) (k1_t1 : Fin (k1_t1_loop v36 v38).trips) (k1_t5 : Fin (k1_t5_loop v36 v38 k1_t1).trips), ∀ a, (k1_off64 v36 v38 k1_t1 k1_t5) a + S1x16.size a ≤ S72x256.size a := fun i v36 v38 k1_hw1 k1_t1 k1_t5 => k1_hw1.2.2.1.2.2.2.1 k1_t1 k1_t5
theorem k1_off65_inb : ∀ (i : grid1.Coords) (v36 : BitVec 32) (v38 : BitVec 32) (k1_hw1 : k1_chk1 i v36 v38) (k1_t1 : Fin (k1_t1_loop v36 v38).trips) (k1_t5 : Fin (k1_t5_loop v36 v38 k1_t1).trips), ∀ a, (k1_off65 v36 v38 k1_t1 k1_t5) a + S1x16.size a ≤ S72x256.size a := fun i v36 v38 k1_hw1 k1_t1 k1_t5 => k1_hw1.2.2.1.2.2.2.2.1 k1_t1 k1_t5
theorem k1_off66_inb : ∀ (i : grid1.Coords) (v36 : BitVec 32) (v38 : BitVec 32) (k1_hw1 : k1_chk1 i v36 v38) (k1_t1 : Fin (k1_t1_loop v36 v38).trips) (k1_t5 : Fin (k1_t5_loop v36 v38 k1_t1).trips), ∀ a, (k1_off66 v36 v38 k1_t1 k1_t5) a + S1x16.size a ≤ S72x256.size a := fun i v36 v38 k1_hw1 k1_t1 k1_t5 => k1_hw1.2.2.1.2.2.2.2.2.1 k1_t1 k1_t5
theorem k1_off67_inb : ∀ (i : grid1.Coords) (v36 : BitVec 32) (v38 : BitVec 32) (k1_hw1 : k1_chk1 i v36 v38) (k1_t1 : Fin (k1_t1_loop v36 v38).trips) (k1_t5 : Fin (k1_t5_loop v36 v38 k1_t1).trips), ∀ a, (k1_off67 v36 v38 k1_t1 k1_t5) a + S1x16.size a ≤ S72x256.size a := fun i v36 v38 k1_hw1 k1_t1 k1_t5 => k1_hw1.2.2.1.2.2.2.2.2.2.1 k1_t1 k1_t5
theorem k1_off68_inb : ∀ (i : grid1.Coords) (v36 : BitVec 32) (v38 : BitVec 32) (k1_hw1 : k1_chk1 i v36 v38) (k1_t1 : Fin (k1_t1_loop v36 v38).trips) (k1_t5 : Fin (k1_t5_loop v36 v38 k1_t1).trips), ∀ a, (k1_off68 v36 v38 k1_t1 k1_t5) a + S1x16.size a ≤ S72x256.size a := fun i v36 v38 k1_hw1 k1_t1 k1_t5 => k1_hw1.2.2.1.2.2.2.2.2.2.2.1 k1_t1 k1_t5
theorem k1_off69_inb : ∀ (i : grid1.Coords) (v36 : BitVec 32) (v38 : BitVec 32) (k1_hw1 : k1_chk1 i v36 v38) (k1_t1 : Fin (k1_t1_loop v36 v38).trips) (k1_t5 : Fin (k1_t5_loop v36 v38 k1_t1).trips), ∀ a, (k1_off69 v36 v38 k1_t1 k1_t5) a + S1x16.size a ≤ S72x256.size a := fun i v36 v38 k1_hw1 k1_t1 k1_t5 => k1_hw1.2.2.1.2.2.2.2.2.2.2.2.1 k1_t1 k1_t5
theorem k1_off70_inb : ∀ (i : grid1.Coords) (v36 : BitVec 32) (v38 : BitVec 32) (k1_hw1 : k1_chk1 i v36 v38) (k1_t1 : Fin (k1_t1_loop v36 v38).trips) (k1_t5 : Fin (k1_t5_loop v36 v38 k1_t1).trips), ∀ a, (k1_off70 v36 v38 k1_t1 k1_t5) a + S1x16.size a ≤ S72x256.size a := fun i v36 v38 k1_hw1 k1_t1 k1_t5 => k1_hw1.2.2.1.2.2.2.2.2.2.2.2.2.1 k1_t1 k1_t5
theorem k1_t6_ok : ∀ (i : grid1.Coords) (v36 : BitVec 32) (v38 : BitVec 32) (k1_hw1 : k1_chk1 i v36 v38), (k1_t6_loop v36 v38).OK := fun i v36 v38 k1_hw1 => k1_hw1.2.2.1.2.2.2.2.2.2.2.2.2.2.1
theorem k1_off71_inb : ∀ (i : grid1.Coords) (v36 : BitVec 32) (v38 : BitVec 32) (k1_hw1 : k1_chk1 i v36 v38) (k1_t6 : Fin (k1_t6_loop v36 v38).trips), ∀ (k1_h6 : k1_cond6 v36 v38 k1_t6 = 1#1), ∀ a, (k1_off71 i v36 v38 k1_t6) a + S72x256.size a ≤ S100000x512.size a := fun i v36 v38 k1_hw1 k1_t6 k1_h6 => k1_hw1.2.2.1.2.2.2.2.2.2.2.2.2.2.2.1 k1_t6 k1_h6
theorem k1_off72_inb : ∀ (i : grid1.Coords) (v36 : BitVec 32) (v38 : BitVec 32) (k1_hw1 : k1_chk1 i v36 v38) (k1_t6 : Fin (k1_t6_loop v36 v38).trips), ∀ (k1_h6 : k1_cond6 v36 v38 k1_t6 = 1#1), ∀ (k1_h7 : k1_cond7 v36 v38 k1_t6 = 1#1), ∀ a, (k1_off72 i v36 v38 k1_t6) a + S72x256.size a ≤ S100000x512.size a := fun i v36 v38 k1_hw1 k1_t6 k1_h6 k1_h7 => k1_hw1.2.2.1.2.2.2.2.2.2.2.2.2.2.2.2.1 k1_t6 k1_h6 k1_h7
theorem k1_t7_ok : ∀ (i : grid1.Coords) (v36 : BitVec 32) (v38 : BitVec 32) (k1_hw1 : k1_chk1 i v36 v38) (k1_t6 : Fin (k1_t6_loop v36 v38).trips), (k1_t7_loop v36 v38 k1_t6).OK := fun i v36 v38 k1_hw1 k1_t6 => k1_hw1.2.2.1.2.2.2.2.2.2.2.2.2.2.2.2.2.1 k1_t6
theorem k1_off73_inb : ∀ (i : grid1.Coords) (v36 : BitVec 32) (v38 : BitVec 32) (k1_hw1 : k1_chk1 i v36 v38) (k1_t6 : Fin (k1_t6_loop v36 v38).trips) (k1_t7 : Fin (k1_t7_loop v36 v38 k1_t6).trips), ∀ a, (k1_off73 v36 v38 k1_t6 k1_t7) a + S1x16.size a ≤ S72x256.size a := fun i v36 v38 k1_hw1 k1_t6 k1_t7 => k1_hw1.2.2.1.2.2.2.2.2.2.2.2.2.2.2.2.2.2.1 k1_t6 k1_t7
theorem k1_off74_inb : ∀ (i : grid1.Coords) (v36 : BitVec 32) (v38 : BitVec 32) (k1_hw1 : k1_chk1 i v36 v38) (k1_t6 : Fin (k1_t6_loop v36 v38).trips) (k1_t7 : Fin (k1_t7_loop v36 v38 k1_t6).trips), ∀ a, (k1_off74 v36 v38 k1_t6 k1_t7) a + S1x16.size a ≤ S72x256.size a := fun i v36 v38 k1_hw1 k1_t6 k1_t7 => k1_hw1.2.2.1.2.2.2.2.2.2.2.2.2.2.2.2.2.2.2.1 k1_t6 k1_t7
theorem k1_off75_inb : ∀ (i : grid1.Coords) (v36 : BitVec 32) (v38 : BitVec 32) (k1_hw1 : k1_chk1 i v36 v38) (k1_t6 : Fin (k1_t6_loop v36 v38).trips) (k1_t7 : Fin (k1_t7_loop v36 v38 k1_t6).trips), ∀ a, (k1_off75 v36 v38 k1_t6 k1_t7) a + S1x16.size a ≤ S72x256.size a := fun i v36 v38 k1_hw1 k1_t6 k1_t7 => k1_hw1.2.2.1.2.2.2.2.2.2.2.2.2.2.2.2.2.2.2.2.1 k1_t6 k1_t7
theorem k1_off76_inb : ∀ (i : grid1.Coords) (v36 : BitVec 32) (v38 : BitVec 32) (k1_hw1 : k1_chk1 i v36 v38) (k1_t6 : Fin (k1_t6_loop v36 v38).trips) (k1_t7 : Fin (k1_t7_loop v36 v38 k1_t6).trips), ∀ a, (k1_off76 v36 v38 k1_t6 k1_t7) a + S1x16.size a ≤ S72x256.size a := fun i v36 v38 k1_hw1 k1_t6 k1_t7 => k1_hw1.2.2.1.2.2.2.2.2.2.2.2.2.2.2.2.2.2.2.2.2.1 k1_t6 k1_t7
theorem k1_off77_inb : ∀ (i : grid1.Coords) (v36 : BitVec 32) (v38 : BitVec 32) (k1_hw1 : k1_chk1 i v36 v38) (k1_t6 : Fin (k1_t6_loop v36 v38).trips) (k1_t7 : Fin (k1_t7_loop v36 v38 k1_t6).trips), ∀ a, (k1_off77 v36 v38 k1_t6 k1_t7) a + S1x16.size a ≤ S72x256.size a := fun i v36 v38 k1_hw1 k1_t6 k1_t7 => k1_hw1.2.2.1.2.2.2.2.2.2.2.2.2.2.2.2.2.2.2.2.2.2.1 k1_t6 k1_t7
theorem k1_off78_inb : ∀ (i : grid1.Coords) (v36 : BitVec 32) (v38 : BitVec 32) (k1_hw1 : k1_chk1 i v36 v38) (k1_t6 : Fin (k1_t6_loop v36 v38).trips) (k1_t7 : Fin (k1_t7_loop v36 v38 k1_t6).trips), ∀ a, (k1_off78 v36 v38 k1_t6 k1_t7) a + S1x16.size a ≤ S72x256.size a := fun i v36 v38 k1_hw1 k1_t6 k1_t7 => k1_hw1.2.2.1.2.2.2.2.2.2.2.2.2.2.2.2.2.2.2.2.2.2.2.1 k1_t6 k1_t7
theorem k1_off79_inb : ∀ (i : grid1.Coords) (v36 : BitVec 32) (v38 : BitVec 32) (k1_hw1 : k1_chk1 i v36 v38) (k1_t6 : Fin (k1_t6_loop v36 v38).trips) (k1_t7 : Fin (k1_t7_loop v36 v38 k1_t6).trips), ∀ a, (k1_off79 v36 v38 k1_t6 k1_t7) a + S1x16.size a ≤ S72x256.size a := fun i v36 v38 k1_hw1 k1_t6 k1_t7 => k1_hw1.2.2.1.2.2.2.2.2.2.2.2.2.2.2.2.2.2.2.2.2.2.2.2.1 k1_t6 k1_t7
theorem k1_off80_inb : ∀ (i : grid1.Coords) (v36 : BitVec 32) (v38 : BitVec 32) (k1_hw1 : k1_chk1 i v36 v38) (k1_t6 : Fin (k1_t6_loop v36 v38).trips) (k1_t7 : Fin (k1_t7_loop v36 v38 k1_t6).trips), ∀ a, (k1_off80 v36 v38 k1_t6 k1_t7) a + S1x16.size a ≤ S72x256.size a := fun i v36 v38 k1_hw1 k1_t6 k1_t7 => k1_hw1.2.2.1.2.2.2.2.2.2.2.2.2.2.2.2.2.2.2.2.2.2.2.2.2.1 k1_t6 k1_t7
theorem k1_off81_inb : ∀ (i : grid1.Coords) (v36 : BitVec 32) (v38 : BitVec 32) (k1_hw1 : k1_chk1 i v36 v38) (k1_t6 : Fin (k1_t6_loop v36 v38).trips) (k1_t7 : Fin (k1_t7_loop v36 v38 k1_t6).trips), ∀ a, (k1_off81 v36 v38 k1_t6 k1_t7) a + S1x16.size a ≤ S72x256.size a := fun i v36 v38 k1_hw1 k1_t6 k1_t7 => k1_hw1.2.2.1.2.2.2.2.2.2.2.2.2.2.2.2.2.2.2.2.2.2.2.2.2.2.1 k1_t6 k1_t7
theorem k1_off82_inb : ∀ (i : grid1.Coords) (v36 : BitVec 32) (v38 : BitVec 32) (k1_hw1 : k1_chk1 i v36 v38) (k1_t6 : Fin (k1_t6_loop v36 v38).trips) (k1_t7 : Fin (k1_t7_loop v36 v38 k1_t6).trips), ∀ a, (k1_off82 v36 v38 k1_t6 k1_t7) a + S1x16.size a ≤ S72x256.size a := fun i v36 v38 k1_hw1 k1_t6 k1_t7 => k1_hw1.2.2.1.2.2.2.2.2.2.2.2.2.2.2.2.2.2.2.2.2.2.2.2.2.2.2.1 k1_t6 k1_t7
theorem k1_off83_inb : ∀ (i : grid1.Coords) (v36 : BitVec 32) (v38 : BitVec 32) (k1_hw1 : k1_chk1 i v36 v38) (k1_t6 : Fin (k1_t6_loop v36 v38).trips) (k1_t7 : Fin (k1_t7_loop v36 v38 k1_t6).trips), ∀ a, (k1_off83 v36 v38 k1_t6 k1_t7) a + S1x16.size a ≤ S72x256.size a := fun i v36 v38 k1_hw1 k1_t6 k1_t7 => k1_hw1.2.2.1.2.2.2.2.2.2.2.2.2.2.2.2.2.2.2.2.2.2.2.2.2.2.2.2.1 k1_t6 k1_t7
theorem k1_off84_inb : ∀ (i : grid1.Coords) (v36 : BitVec 32) (v38 : BitVec 32) (k1_hw1 : k1_chk1 i v36 v38) (k1_t6 : Fin (k1_t6_loop v36 v38).trips) (k1_t7 : Fin (k1_t7_loop v36 v38 k1_t6).trips), ∀ a, (k1_off84 v36 v38 k1_t6 k1_t7) a + S1x16.size a ≤ S72x256.size a := fun i v36 v38 k1_hw1 k1_t6 k1_t7 => k1_hw1.2.2.1.2.2.2.2.2.2.2.2.2.2.2.2.2.2.2.2.2.2.2.2.2.2.2.2.2.1 k1_t6 k1_t7
theorem k1_off85_inb : ∀ (i : grid1.Coords) (v36 : BitVec 32) (v38 : BitVec 32) (k1_hw1 : k1_chk1 i v36 v38) (k1_t6 : Fin (k1_t6_loop v36 v38).trips) (k1_t7 : Fin (k1_t7_loop v36 v38 k1_t6).trips), ∀ a, (k1_off85 v36 v38 k1_t6 k1_t7) a + S1x16.size a ≤ S72x256.size a := fun i v36 v38 k1_hw1 k1_t6 k1_t7 => k1_hw1.2.2.1.2.2.2.2.2.2.2.2.2.2.2.2.2.2.2.2.2.2.2.2.2.2.2.2.2.2.1 k1_t6 k1_t7
theorem k1_off86_inb : ∀ (i : grid1.Coords) (v36 : BitVec 32) (v38 : BitVec 32) (k1_hw1 : k1_chk1 i v36 v38) (k1_t6 : Fin (k1_t6_loop v36 v38).trips) (k1_t7 : Fin (k1_t7_loop v36 v38 k1_t6).trips), ∀ a, (k1_off86 v36 v38 k1_t6 k1_t7) a + S1x16.size a ≤ S72x256.size a := fun i v36 v38 k1_hw1 k1_t6 k1_t7 => k1_hw1.2.2.1.2.2.2.2.2.2.2.2.2.2.2.2.2.2.2.2.2.2.2.2.2.2.2.2.2.2.2.1 k1_t6 k1_t7
theorem k1_off87_inb : ∀ (i : grid1.Coords) (v36 : BitVec 32) (v38 : BitVec 32) (k1_hw1 : k1_chk1 i v36 v38) (k1_t6 : Fin (k1_t6_loop v36 v38).trips) (k1_t7 : Fin (k1_t7_loop v36 v38 k1_t6).trips), ∀ a, (k1_off87 v36 v38 k1_t6 k1_t7) a + S1x16.size a ≤ S72x256.size a := fun i v36 v38 k1_hw1 k1_t6 k1_t7 => k1_hw1.2.2.1.2.2.2.2.2.2.2.2.2.2.2.2.2.2.2.2.2.2.2.2.2.2.2.2.2.2.2.2.1 k1_t6 k1_t7
theorem k1_off88_inb : ∀ (i : grid1.Coords) (v36 : BitVec 32) (v38 : BitVec 32) (k1_hw1 : k1_chk1 i v36 v38) (k1_t6 : Fin (k1_t6_loop v36 v38).trips) (k1_t7 : Fin (k1_t7_loop v36 v38 k1_t6).trips), ∀ a, (k1_off88 v36 v38 k1_t6 k1_t7) a + S1x16.size a ≤ S72x256.size a := fun i v36 v38 k1_hw1 k1_t6 k1_t7 => k1_hw1.2.2.1.2.2.2.2.2.2.2.2.2.2.2.2.2.2.2.2.2.2.2.2.2.2.2.2.2.2.2.2.2.1 k1_t6 k1_t7
theorem k1_t8_ok : ∀ (i : grid1.Coords) (v36 : BitVec 32) (v38 : BitVec 32) (k1_hw1 : k1_chk1 i v36 v38) (k1_t6 : Fin (k1_t6_loop v36 v38).trips), (k1_t8_loop v36 v38 k1_t6).OK := fun i v36 v38 k1_hw1 k1_t6 => k1_hw1.2.2.1.2.2.2.2.2.2.2.2.2.2.2.2.2.2.2.2.2.2.2.2.2.2.2.2.2.2.2.2.2.2.1 k1_t6
theorem k1_off89_inb : ∀ (i : grid1.Coords) (v36 : BitVec 32) (v38 : BitVec 32) (k1_hw1 : k1_chk1 i v36 v38) (k1_t6 : Fin (k1_t6_loop v36 v38).trips) (k1_t8 : Fin (k1_t8_loop v36 v38 k1_t6).trips), ∀ a, (k1_off89 v36 v38 k1_t6 k1_t8) a + S1x16.size a ≤ S72x256.size a := fun i v36 v38 k1_hw1 k1_t6 k1_t8 => k1_hw1.2.2.1.2.2.2.2.2.2.2.2.2.2.2.2.2.2.2.2.2.2.2.2.2.2.2.2.2.2.2.2.2.2.2 k1_t6 k1_t8
theorem k1_off90_inb : ∀ (i : grid1.Coords) (v36 : BitVec 32) (v38 : BitVec 32) (k1_hw1 : k1_chk1 i v36 v38) (k1_t6 : Fin (k1_t6_loop v36 v38).trips) (k1_t8 : Fin (k1_t8_loop v36 v38 k1_t6).trips), ∀ a, (k1_off90 v36 v38 k1_t6 k1_t8) a + S1x16.size a ≤ S72x256.size a := fun i v36 v38 k1_hw1 k1_t6 k1_t8 => k1_hw1.2.2.2.1.1 k1_t6 k1_t8
theorem k1_off91_inb : ∀ (i : grid1.Coords) (v36 : BitVec 32) (v38 : BitVec 32) (k1_hw1 : k1_chk1 i v36 v38) (k1_t6 : Fin (k1_t6_loop v36 v38).trips) (k1_t8 : Fin (k1_t8_loop v36 v38 k1_t6).trips), ∀ a, (k1_off91 v36 v38 k1_t6 k1_t8) a + S1x16.size a ≤ S72x256.size a := fun i v36 v38 k1_hw1 k1_t6 k1_t8 => k1_hw1.2.2.2.1.2.1 k1_t6 k1_t8
theorem k1_off92_inb : ∀ (i : grid1.Coords) (v36 : BitVec 32) (v38 : BitVec 32) (k1_hw1 : k1_chk1 i v36 v38) (k1_t6 : Fin (k1_t6_loop v36 v38).trips) (k1_t8 : Fin (k1_t8_loop v36 v38 k1_t6).trips), ∀ a, (k1_off92 v36 v38 k1_t6 k1_t8) a + S1x16.size a ≤ S72x256.size a := fun i v36 v38 k1_hw1 k1_t6 k1_t8 => k1_hw1.2.2.2.1.2.2.1 k1_t6 k1_t8
theorem k1_off93_inb : ∀ (i : grid1.Coords) (v36 : BitVec 32) (v38 : BitVec 32) (k1_hw1 : k1_chk1 i v36 v38) (k1_t6 : Fin (k1_t6_loop v36 v38).trips) (k1_t8 : Fin (k1_t8_loop v36 v38 k1_t6).trips), ∀ a, (k1_off93 v36 v38 k1_t6 k1_t8) a + S1x16.size a ≤ S72x256.size a := fun i v36 v38 k1_hw1 k1_t6 k1_t8 => k1_hw1.2.2.2.1.2.2.2.1 k1_t6 k1_t8
theorem k1_off94_inb : ∀ (i : grid1.Coords) (v36 : BitVec 32) (v38 : BitVec 32) (k1_hw1 : k1_chk1 i v36 v38) (k1_t6 : Fin (k1_t6_loop v36 v38).trips) (k1_t8 : Fin (k1_t8_loop v36 v38 k1_t6).trips), ∀ a, (k1_off94 v36 v38 k1_t6 k1_t8) a + S1x16.size a ≤ S72x256.size a := fun i v36 v38 k1_hw1 k1_t6 k1_t8 => k1_hw1.2.2.2.1.2.2.2.2.1 k1_t6 k1_t8
theorem k1_off95_inb : ∀ (i : grid1.Coords) (v36 : BitVec 32) (v38 : BitVec 32) (k1_hw1 : k1_chk1 i v36 v38) (k1_t6 : Fin (k1_t6_loop v36 v38).trips) (k1_t8 : Fin (k1_t8_loop v36 v38 k1_t6).trips), ∀ a, (k1_off95 v36 v38 k1_t6 k1_t8) a + S1x16.size a ≤ S72x256.size a := fun i v36 v38 k1_hw1 k1_t6 k1_t8 => k1_hw1.2.2.2.1.2.2.2.2.2.1 k1_t6 k1_t8
theorem k1_off96_inb : ∀ (i : grid1.Coords) (v36 : BitVec 32) (v38 : BitVec 32) (k1_hw1 : k1_chk1 i v36 v38) (k1_t6 : Fin (k1_t6_loop v36 v38).trips) (k1_t8 : Fin (k1_t8_loop v36 v38 k1_t6).trips), ∀ a, (k1_off96 v36 v38 k1_t6 k1_t8) a + S1x16.size a ≤ S72x256.size a := fun i v36 v38 k1_hw1 k1_t6 k1_t8 => k1_hw1.2.2.2.1.2.2.2.2.2.2.1 k1_t6 k1_t8
theorem k1_off97_inb : ∀ (i : grid1.Coords) (v36 : BitVec 32) (v38 : BitVec 32) (k1_hw1 : k1_chk1 i v36 v38) (k1_t6 : Fin (k1_t6_loop v36 v38).trips) (k1_t8 : Fin (k1_t8_loop v36 v38 k1_t6).trips), ∀ a, (k1_off97 v36 v38 k1_t6 k1_t8) a + S1x16.size a ≤ S72x256.size a := fun i v36 v38 k1_hw1 k1_t6 k1_t8 => k1_hw1.2.2.2.1.2.2.2.2.2.2.2.1 k1_t6 k1_t8
theorem k1_off98_inb : ∀ (i : grid1.Coords) (v36 : BitVec 32) (v38 : BitVec 32) (k1_hw1 : k1_chk1 i v36 v38) (k1_t6 : Fin (k1_t6_loop v36 v38).trips) (k1_t8 : Fin (k1_t8_loop v36 v38 k1_t6).trips), ∀ a, (k1_off98 v36 v38 k1_t6 k1_t8) a + S1x16.size a ≤ S72x256.size a := fun i v36 v38 k1_hw1 k1_t6 k1_t8 => k1_hw1.2.2.2.1.2.2.2.2.2.2.2.2.1 k1_t6 k1_t8
theorem k1_off99_inb : ∀ (i : grid1.Coords) (v36 : BitVec 32) (v38 : BitVec 32) (k1_hw1 : k1_chk1 i v36 v38) (k1_t6 : Fin (k1_t6_loop v36 v38).trips) (k1_t8 : Fin (k1_t8_loop v36 v38 k1_t6).trips), ∀ a, (k1_off99 v36 v38 k1_t6 k1_t8) a + S1x16.size a ≤ S72x256.size a := fun i v36 v38 k1_hw1 k1_t6 k1_t8 => k1_hw1.2.2.2.1.2.2.2.2.2.2.2.2.2.1 k1_t6 k1_t8
theorem k1_off100_inb : ∀ (i : grid1.Coords) (v36 : BitVec 32) (v38 : BitVec 32) (k1_hw1 : k1_chk1 i v36 v38) (k1_t6 : Fin (k1_t6_loop v36 v38).trips) (k1_t8 : Fin (k1_t8_loop v36 v38 k1_t6).trips), ∀ a, (k1_off100 v36 v38 k1_t6 k1_t8) a + S1x16.size a ≤ S72x256.size a := fun i v36 v38 k1_hw1 k1_t6 k1_t8 => k1_hw1.2.2.2.1.2.2.2.2.2.2.2.2.2.2.1 k1_t6 k1_t8
theorem k1_off101_inb : ∀ (i : grid1.Coords) (v36 : BitVec 32) (v38 : BitVec 32) (k1_hw1 : k1_chk1 i v36 v38) (k1_t6 : Fin (k1_t6_loop v36 v38).trips) (k1_t8 : Fin (k1_t8_loop v36 v38 k1_t6).trips), ∀ a, (k1_off101 v36 v38 k1_t6 k1_t8) a + S1x16.size a ≤ S72x256.size a := fun i v36 v38 k1_hw1 k1_t6 k1_t8 => k1_hw1.2.2.2.1.2.2.2.2.2.2.2.2.2.2.2.1 k1_t6 k1_t8
theorem k1_off102_inb : ∀ (i : grid1.Coords) (v36 : BitVec 32) (v38 : BitVec 32) (k1_hw1 : k1_chk1 i v36 v38) (k1_t6 : Fin (k1_t6_loop v36 v38).trips) (k1_t8 : Fin (k1_t8_loop v36 v38 k1_t6).trips), ∀ a, (k1_off102 v36 v38 k1_t6 k1_t8) a + S1x16.size a ≤ S72x256.size a := fun i v36 v38 k1_hw1 k1_t6 k1_t8 => k1_hw1.2.2.2.1.2.2.2.2.2.2.2.2.2.2.2.2.1 k1_t6 k1_t8
theorem k1_off103_inb : ∀ (i : grid1.Coords) (v36 : BitVec 32) (v38 : BitVec 32) (k1_hw1 : k1_chk1 i v36 v38) (k1_t6 : Fin (k1_t6_loop v36 v38).trips) (k1_t8 : Fin (k1_t8_loop v36 v38 k1_t6).trips), ∀ a, (k1_off103 v36 v38 k1_t6 k1_t8) a + S1x16.size a ≤ S72x256.size a := fun i v36 v38 k1_hw1 k1_t6 k1_t8 => k1_hw1.2.2.2.1.2.2.2.2.2.2.2.2.2.2.2.2.2.1 k1_t6 k1_t8
theorem k1_off104_inb : ∀ (i : grid1.Coords) (v36 : BitVec 32) (v38 : BitVec 32) (k1_hw1 : k1_chk1 i v36 v38) (k1_t6 : Fin (k1_t6_loop v36 v38).trips) (k1_t8 : Fin (k1_t8_loop v36 v38 k1_t6).trips), ∀ a, (k1_off104 v36 v38 k1_t6 k1_t8) a + S1x16.size a ≤ S72x256.size a := fun i v36 v38 k1_hw1 k1_t6 k1_t8 => k1_hw1.2.2.2.1.2.2.2.2.2.2.2.2.2.2.2.2.2.2.1 k1_t6 k1_t8
theorem k1_off105_inb : ∀ (i : grid1.Coords) (v36 : BitVec 32) (v38 : BitVec 32) (k1_hw1 : k1_chk1 i v36 v38) (k1_t6 : Fin (k1_t6_loop v36 v38).trips), ∀ (k1_h8 : k1_cond8 v36 v38 k1_t6 = 1#1), ∀ a, (k1_off105 i v36 v38 k1_t6) a + S72x256.size a ≤ S100000x512.size a := fun i v36 v38 k1_hw1 k1_t6 k1_h8 => k1_hw1.2.2.2.1.2.2.2.2.2.2.2.2.2.2.2.2.2.2.2.1 k1_t6 k1_h8
theorem k1_off106_inb : ∀ (i : grid1.Coords) (v36 : BitVec 32) (v38 : BitVec 32) (k1_hw1 : k1_chk1 i v36 v38) (k1_t6 : Fin (k1_t6_loop v36 v38).trips), ∀ (k1_h8 : k1_cond8 v36 v38 k1_t6 = 1#1), ∀ (k1_h9 : k1_cond9 v36 v38 k1_t6 = 1#1), ∀ a, (k1_off106 i v36 v38 k1_t6) a + S72x256.size a ≤ S100000x512.size a := fun i v36 v38 k1_hw1 k1_t6 k1_h8 k1_h9 => k1_hw1.2.2.2.1.2.2.2.2.2.2.2.2.2.2.2.2.2.2.2.2.1 k1_t6 k1_h8 k1_h9
theorem k1_t9_ok : ∀ (i : grid1.Coords) (v36 : BitVec 32) (v38 : BitVec 32) (k1_hw1 : k1_chk1 i v36 v38) (k1_t6 : Fin (k1_t6_loop v36 v38).trips), (k1_t9_loop v36 v38 k1_t6).OK := fun i v36 v38 k1_hw1 k1_t6 => k1_hw1.2.2.2.1.2.2.2.2.2.2.2.2.2.2.2.2.2.2.2.2.2.1 k1_t6
theorem k1_off107_inb : ∀ (i : grid1.Coords) (v36 : BitVec 32) (v38 : BitVec 32) (k1_hw1 : k1_chk1 i v36 v38) (k1_t6 : Fin (k1_t6_loop v36 v38).trips) (k1_t9 : Fin (k1_t9_loop v36 v38 k1_t6).trips), ∀ a, (k1_off107 v36 v38 k1_t6 k1_t9) a + S1x16.size a ≤ S72x256.size a := fun i v36 v38 k1_hw1 k1_t6 k1_t9 => k1_hw1.2.2.2.1.2.2.2.2.2.2.2.2.2.2.2.2.2.2.2.2.2.2.1 k1_t6 k1_t9
theorem k1_off108_inb : ∀ (i : grid1.Coords) (v36 : BitVec 32) (v38 : BitVec 32) (k1_hw1 : k1_chk1 i v36 v38) (k1_t6 : Fin (k1_t6_loop v36 v38).trips) (k1_t9 : Fin (k1_t9_loop v36 v38 k1_t6).trips), ∀ a, (k1_off108 v36 v38 k1_t6 k1_t9) a + S1x16.size a ≤ S72x256.size a := fun i v36 v38 k1_hw1 k1_t6 k1_t9 => k1_hw1.2.2.2.1.2.2.2.2.2.2.2.2.2.2.2.2.2.2.2.2.2.2.2.1 k1_t6 k1_t9
theorem k1_off109_inb : ∀ (i : grid1.Coords) (v36 : BitVec 32) (v38 : BitVec 32) (k1_hw1 : k1_chk1 i v36 v38) (k1_t6 : Fin (k1_t6_loop v36 v38).trips) (k1_t9 : Fin (k1_t9_loop v36 v38 k1_t6).trips), ∀ a, (k1_off109 v36 v38 k1_t6 k1_t9) a + S1x16.size a ≤ S72x256.size a := fun i v36 v38 k1_hw1 k1_t6 k1_t9 => k1_hw1.2.2.2.1.2.2.2.2.2.2.2.2.2.2.2.2.2.2.2.2.2.2.2.2.1 k1_t6 k1_t9
theorem k1_off110_inb : ∀ (i : grid1.Coords) (v36 : BitVec 32) (v38 : BitVec 32) (k1_hw1 : k1_chk1 i v36 v38) (k1_t6 : Fin (k1_t6_loop v36 v38).trips) (k1_t9 : Fin (k1_t9_loop v36 v38 k1_t6).trips), ∀ a, (k1_off110 v36 v38 k1_t6 k1_t9) a + S1x16.size a ≤ S72x256.size a := fun i v36 v38 k1_hw1 k1_t6 k1_t9 => k1_hw1.2.2.2.1.2.2.2.2.2.2.2.2.2.2.2.2.2.2.2.2.2.2.2.2.2.1 k1_t6 k1_t9
theorem k1_off111_inb : ∀ (i : grid1.Coords) (v36 : BitVec 32) (v38 : BitVec 32) (k1_hw1 : k1_chk1 i v36 v38) (k1_t6 : Fin (k1_t6_loop v36 v38).trips) (k1_t9 : Fin (k1_t9_loop v36 v38 k1_t6).trips), ∀ a, (k1_off111 v36 v38 k1_t6 k1_t9) a + S1x16.size a ≤ S72x256.size a := fun i v36 v38 k1_hw1 k1_t6 k1_t9 => k1_hw1.2.2.2.1.2.2.2.2.2.2.2.2.2.2.2.2.2.2.2.2.2.2.2.2.2.2.1 k1_t6 k1_t9
theorem k1_off112_inb : ∀ (i : grid1.Coords) (v36 : BitVec 32) (v38 : BitVec 32) (k1_hw1 : k1_chk1 i v36 v38) (k1_t6 : Fin (k1_t6_loop v36 v38).trips) (k1_t9 : Fin (k1_t9_loop v36 v38 k1_t6).trips), ∀ a, (k1_off112 v36 v38 k1_t6 k1_t9) a + S1x16.size a ≤ S72x256.size a := fun i v36 v38 k1_hw1 k1_t6 k1_t9 => k1_hw1.2.2.2.1.2.2.2.2.2.2.2.2.2.2.2.2.2.2.2.2.2.2.2.2.2.2.2.1 k1_t6 k1_t9
theorem k1_off113_inb : ∀ (i : grid1.Coords) (v36 : BitVec 32) (v38 : BitVec 32) (k1_hw1 : k1_chk1 i v36 v38) (k1_t6 : Fin (k1_t6_loop v36 v38).trips) (k1_t9 : Fin (k1_t9_loop v36 v38 k1_t6).trips), ∀ a, (k1_off113 v36 v38 k1_t6 k1_t9) a + S1x16.size a ≤ S72x256.size a := fun i v36 v38 k1_hw1 k1_t6 k1_t9 => k1_hw1.2.2.2.1.2.2.2.2.2.2.2.2.2.2.2.2.2.2.2.2.2.2.2.2.2.2.2.2.1 k1_t6 k1_t9
theorem k1_off114_inb : ∀ (i : grid1.Coords) (v36 : BitVec 32) (v38 : BitVec 32) (k1_hw1 : k1_chk1 i v36 v38) (k1_t6 : Fin (k1_t6_loop v36 v38).trips) (k1_t9 : Fin (k1_t9_loop v36 v38 k1_t6).trips), ∀ a, (k1_off114 v36 v38 k1_t6 k1_t9) a + S1x16.size a ≤ S72x256.size a := fun i v36 v38 k1_hw1 k1_t6 k1_t9 => k1_hw1.2.2.2.1.2.2.2.2.2.2.2.2.2.2.2.2.2.2.2.2.2.2.2.2.2.2.2.2.2.1 k1_t6 k1_t9
theorem k1_off115_inb : ∀ (i : grid1.Coords) (v36 : BitVec 32) (v38 : BitVec 32) (k1_hw1 : k1_chk1 i v36 v38) (k1_t6 : Fin (k1_t6_loop v36 v38).trips) (k1_t9 : Fin (k1_t9_loop v36 v38 k1_t6).trips), ∀ a, (k1_off115 v36 v38 k1_t6 k1_t9) a + S1x16.size a ≤ S72x256.size a := fun i v36 v38 k1_hw1 k1_t6 k1_t9 => k1_hw1.2.2.2.1.2.2.2.2.2.2.2.2.2.2.2.2.2.2.2.2.2.2.2.2.2.2.2.2.2.2.1 k1_t6 k1_t9
theorem k1_off116_inb : ∀ (i : grid1.Coords) (v36 : BitVec 32) (v38 : BitVec 32) (k1_hw1 : k1_chk1 i v36 v38) (k1_t6 : Fin (k1_t6_loop v36 v38).trips) (k1_t9 : Fin (k1_t9_loop v36 v38 k1_t6).trips), ∀ a, (k1_off116 v36 v38 k1_t6 k1_t9) a + S1x16.size a ≤ S72x256.size a := fun i v36 v38 k1_hw1 k1_t6 k1_t9 => k1_hw1.2.2.2.1.2.2.2.2.2.2.2.2.2.2.2.2.2.2.2.2.2.2.2.2.2.2.2.2.2.2.2.1 k1_t6 k1_t9
theorem k1_off117_inb : ∀ (i : grid1.Coords) (v36 : BitVec 32) (v38 : BitVec 32) (k1_hw1 : k1_chk1 i v36 v38) (k1_t6 : Fin (k1_t6_loop v36 v38).trips) (k1_t9 : Fin (k1_t9_loop v36 v38 k1_t6).trips), ∀ a, (k1_off117 v36 v38 k1_t6 k1_t9) a + S1x16.size a ≤ S72x256.size a := fun i v36 v38 k1_hw1 k1_t6 k1_t9 => k1_hw1.2.2.2.1.2.2.2.2.2.2.2.2.2.2.2.2.2.2.2.2.2.2.2.2.2.2.2.2.2.2.2.2.1 k1_t6 k1_t9
theorem k1_off118_inb : ∀ (i : grid1.Coords) (v36 : BitVec 32) (v38 : BitVec 32) (k1_hw1 : k1_chk1 i v36 v38) (k1_t6 : Fin (k1_t6_loop v36 v38).trips) (k1_t9 : Fin (k1_t9_loop v36 v38 k1_t6).trips), ∀ a, (k1_off118 v36 v38 k1_t6 k1_t9) a + S1x16.size a ≤ S72x256.size a := fun i v36 v38 k1_hw1 k1_t6 k1_t9 => k1_hw1.2.2.2.1.2.2.2.2.2.2.2.2.2.2.2.2.2.2.2.2.2.2.2.2.2.2.2.2.2.2.2.2.2.1 k1_t6 k1_t9
theorem k1_off119_inb : ∀ (i : grid1.Coords) (v36 : BitVec 32) (v38 : BitVec 32) (k1_hw1 : k1_chk1 i v36 v38) (k1_t6 : Fin (k1_t6_loop v36 v38).trips) (k1_t9 : Fin (k1_t9_loop v36 v38 k1_t6).trips), ∀ a, (k1_off119 v36 v38 k1_t6 k1_t9) a + S1x16.size a ≤ S72x256.size a := fun i v36 v38 k1_hw1 k1_t6 k1_t9 => k1_hw1.2.2.2.1.2.2.2.2.2.2.2.2.2.2.2.2.2.2.2.2.2.2.2.2.2.2.2.2.2.2.2.2.2.2.1 k1_t6 k1_t9
theorem k1_off120_inb : ∀ (i : grid1.Coords) (v36 : BitVec 32) (v38 : BitVec 32) (k1_hw1 : k1_chk1 i v36 v38) (k1_t6 : Fin (k1_t6_loop v36 v38).trips) (k1_t9 : Fin (k1_t9_loop v36 v38 k1_t6).trips), ∀ a, (k1_off120 v36 v38 k1_t6 k1_t9) a + S1x16.size a ≤ S72x256.size a := fun i v36 v38 k1_hw1 k1_t6 k1_t9 => k1_hw1.2.2.2.1.2.2.2.2.2.2.2.2.2.2.2.2.2.2.2.2.2.2.2.2.2.2.2.2.2.2.2.2.2.2.2 k1_t6 k1_t9
theorem k1_off121_inb : ∀ (i : grid1.Coords) (v36 : BitVec 32) (v38 : BitVec 32) (k1_hw1 : k1_chk1 i v36 v38) (k1_t6 : Fin (k1_t6_loop v36 v38).trips) (k1_t9 : Fin (k1_t9_loop v36 v38 k1_t6).trips), ∀ a, (k1_off121 v36 v38 k1_t6 k1_t9) a + S1x16.size a ≤ S72x256.size a := fun i v36 v38 k1_hw1 k1_t6 k1_t9 => k1_hw1.2.2.2.2.1 k1_t6 k1_t9
theorem k1_off122_inb : ∀ (i : grid1.Coords) (v36 : BitVec 32) (v38 : BitVec 32) (k1_hw1 : k1_chk1 i v36 v38) (k1_t6 : Fin (k1_t6_loop v36 v38).trips) (k1_t9 : Fin (k1_t9_loop v36 v38 k1_t6).trips), ∀ a, (k1_off122 v36 v38 k1_t6 k1_t9) a + S1x16.size a ≤ S72x256.size a := fun i v36 v38 k1_hw1 k1_t6 k1_t9 => k1_hw1.2.2.2.2.2.1 k1_t6 k1_t9
theorem k1_t10_ok : ∀ (i : grid1.Coords) (v36 : BitVec 32) (v38 : BitVec 32) (k1_hw1 : k1_chk1 i v36 v38) (k1_t6 : Fin (k1_t6_loop v36 v38).trips), (k1_t10_loop v36 v38 k1_t6).OK := fun i v36 v38 k1_hw1 k1_t6 => k1_hw1.2.2.2.2.2.2.1 k1_t6
theorem k1_off123_inb : ∀ (i : grid1.Coords) (v36 : BitVec 32) (v38 : BitVec 32) (k1_hw1 : k1_chk1 i v36 v38) (k1_t6 : Fin (k1_t6_loop v36 v38).trips) (k1_t10 : Fin (k1_t10_loop v36 v38 k1_t6).trips), ∀ a, (k1_off123 v36 v38 k1_t6 k1_t10) a + S1x16.size a ≤ S72x256.size a := fun i v36 v38 k1_hw1 k1_t6 k1_t10 => k1_hw1.2.2.2.2.2.2.2.1 k1_t6 k1_t10
theorem k1_off124_inb : ∀ (i : grid1.Coords) (v36 : BitVec 32) (v38 : BitVec 32) (k1_hw1 : k1_chk1 i v36 v38) (k1_t6 : Fin (k1_t6_loop v36 v38).trips) (k1_t10 : Fin (k1_t10_loop v36 v38 k1_t6).trips), ∀ a, (k1_off124 v36 v38 k1_t6 k1_t10) a + S1x16.size a ≤ S72x256.size a := fun i v36 v38 k1_hw1 k1_t6 k1_t10 => k1_hw1.2.2.2.2.2.2.2.2.1 k1_t6 k1_t10
theorem k1_off125_inb : ∀ (i : grid1.Coords) (v36 : BitVec 32) (v38 : BitVec 32) (k1_hw1 : k1_chk1 i v36 v38) (k1_t6 : Fin (k1_t6_loop v36 v38).trips) (k1_t10 : Fin (k1_t10_loop v36 v38 k1_t6).trips), ∀ a, (k1_off125 v36 v38 k1_t6 k1_t10) a + S1x16.size a ≤ S72x256.size a := fun i v36 v38 k1_hw1 k1_t6 k1_t10 => k1_hw1.2.2.2.2.2.2.2.2.2.1 k1_t6 k1_t10
theorem k1_off126_inb : ∀ (i : grid1.Coords) (v36 : BitVec 32) (v38 : BitVec 32) (k1_hw1 : k1_chk1 i v36 v38) (k1_t6 : Fin (k1_t6_loop v36 v38).trips) (k1_t10 : Fin (k1_t10_loop v36 v38 k1_t6).trips), ∀ a, (k1_off126 v36 v38 k1_t6 k1_t10) a + S1x16.size a ≤ S72x256.size a := fun i v36 v38 k1_hw1 k1_t6 k1_t10 => k1_hw1.2.2.2.2.2.2.2.2.2.2.1 k1_t6 k1_t10
theorem k1_off127_inb : ∀ (i : grid1.Coords) (v36 : BitVec 32) (v38 : BitVec 32) (k1_hw1 : k1_chk1 i v36 v38) (k1_t6 : Fin (k1_t6_loop v36 v38).trips) (k1_t10 : Fin (k1_t10_loop v36 v38 k1_t6).trips), ∀ a, (k1_off127 v36 v38 k1_t6 k1_t10) a + S1x16.size a ≤ S72x256.size a := fun i v36 v38 k1_hw1 k1_t6 k1_t10 => k1_hw1.2.2.2.2.2.2.2.2.2.2.2.1 k1_t6 k1_t10
theorem k1_off128_inb : ∀ (i : grid1.Coords) (v36 : BitVec 32) (v38 : BitVec 32) (k1_hw1 : k1_chk1 i v36 v38) (k1_t6 : Fin (k1_t6_loop v36 v38).trips) (k1_t10 : Fin (k1_t10_loop v36 v38 k1_t6).trips), ∀ a, (k1_off128 v36 v38 k1_t6 k1_t10) a + S1x16.size a ≤ S72x256.size a := fun i v36 v38 k1_hw1 k1_t6 k1_t10 => k1_hw1.2.2.2.2.2.2.2.2.2.2.2.2.1 k1_t6 k1_t10
theorem k1_off129_inb : ∀ (i : grid1.Coords) (v36 : BitVec 32) (v38 : BitVec 32) (k1_hw1 : k1_chk1 i v36 v38) (k1_t6 : Fin (k1_t6_loop v36 v38).trips) (k1_t10 : Fin (k1_t10_loop v36 v38 k1_t6).trips), ∀ a, (k1_off129 v36 v38 k1_t6 k1_t10) a + S1x16.size a ≤ S72x256.size a := fun i v36 v38 k1_hw1 k1_t6 k1_t10 => k1_hw1.2.2.2.2.2.2.2.2.2.2.2.2.2.1 k1_t6 k1_t10
theorem k1_off130_inb : ∀ (i : grid1.Coords) (v36 : BitVec 32) (v38 : BitVec 32) (k1_hw1 : k1_chk1 i v36 v38) (k1_t6 : Fin (k1_t6_loop v36 v38).trips) (k1_t10 : Fin (k1_t10_loop v36 v38 k1_t6).trips), ∀ a, (k1_off130 v36 v38 k1_t6 k1_t10) a + S1x16.size a ≤ S72x256.size a := fun i v36 v38 k1_hw1 k1_t6 k1_t10 => k1_hw1.2.2.2.2.2.2.2.2.2.2.2.2.2.2.1 k1_t6 k1_t10
theorem k1_off131_inb : ∀ (i : grid1.Coords) (v36 : BitVec 32) (v38 : BitVec 32) (k1_hw1 : k1_chk1 i v36 v38) (k1_t6 : Fin (k1_t6_loop v36 v38).trips) (k1_t10 : Fin (k1_t10_loop v36 v38 k1_t6).trips), ∀ a, (k1_off131 v36 v38 k1_t6 k1_t10) a + S1x16.size a ≤ S72x256.size a := fun i v36 v38 k1_hw1 k1_t6 k1_t10 => k1_hw1.2.2.2.2.2.2.2.2.2.2.2.2.2.2.2.1 k1_t6 k1_t10
theorem k1_off132_inb : ∀ (i : grid1.Coords) (v36 : BitVec 32) (v38 : BitVec 32) (k1_hw1 : k1_chk1 i v36 v38) (k1_t6 : Fin (k1_t6_loop v36 v38).trips) (k1_t10 : Fin (k1_t10_loop v36 v38 k1_t6).trips), ∀ a, (k1_off132 v36 v38 k1_t6 k1_t10) a + S1x16.size a ≤ S72x256.size a := fun i v36 v38 k1_hw1 k1_t6 k1_t10 => k1_hw1.2.2.2.2.2.2.2.2.2.2.2.2.2.2.2.2.1 k1_t6 k1_t10
theorem k1_off133_inb : ∀ (i : grid1.Coords) (v36 : BitVec 32) (v38 : BitVec 32) (k1_hw1 : k1_chk1 i v36 v38) (k1_t6 : Fin (k1_t6_loop v36 v38).trips) (k1_t10 : Fin (k1_t10_loop v36 v38 k1_t6).trips), ∀ a, (k1_off133 v36 v38 k1_t6 k1_t10) a + S1x16.size a ≤ S72x256.size a := fun i v36 v38 k1_hw1 k1_t6 k1_t10 => k1_hw1.2.2.2.2.2.2.2.2.2.2.2.2.2.2.2.2.2.1 k1_t6 k1_t10
theorem k1_off134_inb : ∀ (i : grid1.Coords) (v36 : BitVec 32) (v38 : BitVec 32) (k1_hw1 : k1_chk1 i v36 v38) (k1_t6 : Fin (k1_t6_loop v36 v38).trips) (k1_t10 : Fin (k1_t10_loop v36 v38 k1_t6).trips), ∀ a, (k1_off134 v36 v38 k1_t6 k1_t10) a + S1x16.size a ≤ S72x256.size a := fun i v36 v38 k1_hw1 k1_t6 k1_t10 => k1_hw1.2.2.2.2.2.2.2.2.2.2.2.2.2.2.2.2.2.2.1 k1_t6 k1_t10
theorem k1_off135_inb : ∀ (i : grid1.Coords) (v36 : BitVec 32) (v38 : BitVec 32) (k1_hw1 : k1_chk1 i v36 v38) (k1_t6 : Fin (k1_t6_loop v36 v38).trips) (k1_t10 : Fin (k1_t10_loop v36 v38 k1_t6).trips), ∀ a, (k1_off135 v36 v38 k1_t6 k1_t10) a + S1x16.size a ≤ S72x256.size a := fun i v36 v38 k1_hw1 k1_t6 k1_t10 => k1_hw1.2.2.2.2.2.2.2.2.2.2.2.2.2.2.2.2.2.2.2.1 k1_t6 k1_t10
theorem k1_off136_inb : ∀ (i : grid1.Coords) (v36 : BitVec 32) (v38 : BitVec 32) (k1_hw1 : k1_chk1 i v36 v38) (k1_t6 : Fin (k1_t6_loop v36 v38).trips) (k1_t10 : Fin (k1_t10_loop v36 v38 k1_t6).trips), ∀ a, (k1_off136 v36 v38 k1_t6 k1_t10) a + S1x16.size a ≤ S72x256.size a := fun i v36 v38 k1_hw1 k1_t6 k1_t10 => k1_hw1.2.2.2.2.2.2.2.2.2.2.2.2.2.2.2.2.2.2.2.2.1 k1_t6 k1_t10
theorem k1_off137_inb : ∀ (i : grid1.Coords) (v36 : BitVec 32) (v38 : BitVec 32) (k1_hw1 : k1_chk1 i v36 v38) (k1_t6 : Fin (k1_t6_loop v36 v38).trips) (k1_t10 : Fin (k1_t10_loop v36 v38 k1_t6).trips), ∀ a, (k1_off137 v36 v38 k1_t6 k1_t10) a + S1x16.size a ≤ S72x256.size a := fun i v36 v38 k1_hw1 k1_t6 k1_t10 => k1_hw1.2.2.2.2.2.2.2.2.2.2.2.2.2.2.2.2.2.2.2.2.2.1 k1_t6 k1_t10
theorem k1_off138_inb : ∀ (i : grid1.Coords) (v36 : BitVec 32) (v38 : BitVec 32) (k1_hw1 : k1_chk1 i v36 v38) (k1_t6 : Fin (k1_t6_loop v36 v38).trips) (k1_t10 : Fin (k1_t10_loop v36 v38 k1_t6).trips), ∀ a, (k1_off138 v36 v38 k1_t6 k1_t10) a + S1x16.size a ≤ S72x256.size a := fun i v36 v38 k1_hw1 k1_t6 k1_t10 => k1_hw1.2.2.2.2.2.2.2.2.2.2.2.2.2.2.2.2.2.2.2.2.2.2 k1_t6 k1_t10

def k1_off139 (i : grid1.Coords) (v218 : BitVec 32) : Fin 2 → Nat :=
  let c0_i32_1408 : BitVec 32 := 0#32
  let v2949 : BitVec 32 := Scalar.addi v218 c0_i32_1408
  let c0_i32_1410 : BitVec 32 := 0#32
  let v2951 : BitVec 1 := Scalar.cmpi .sgt v2949 c0_i32_1410
  let v2952 : BitVec 32 := Scalar.extui v2951
  let c0_i32_1411 : BitVec 32 := 0#32
  let v2953 : BitVec 1 := Scalar.cmpi .slt v2949 c0_i32_1411
  let v2954 : BitVec 32 := Scalar.extui v2953
  let v2955 : BitVec 32 := Scalar.subi v2952 v2954
  let c8_i32_1409 : BitVec 32 := 8#32
  let c0_i32_1412 : BitVec 32 := 0#32
  let v2956 : BitVec 1 := Scalar.cmpi .sgt c8_i32_1409 c0_i32_1412
  let v2957 : BitVec 32 := Scalar.extui v2956
  let c0_i32_1413 : BitVec 32 := 0#32
  let v2958 : BitVec 1 := Scalar.cmpi .slt c8_i32_1409 c0_i32_1413
  let v2959 : BitVec 32 := Scalar.extui v2958
  let v2960 : BitVec 32 := Scalar.subi v2957 v2959
  let v2961 : BitVec 1 := Scalar.cmpi .ne v2955 v2960
  let v2962 : BitVec 32 := Scalar.remsi v2949 c8_i32_1409
  let c0_i32_1414 : BitVec 32 := 0#32
  let v2963 : BitVec 1 := Scalar.cmpi .ne v2962 c0_i32_1414
  let v2964 : BitVec 1 := Scalar.andi v2961 v2963
  let v2950 : BitVec 32 := Scalar.divsi v2949 c8_i32_1409
  let c1_i32_1415 : BitVec 32 := 1#32
  let v2965 : BitVec 32 := Scalar.subi v2950 c1_i32_1415
  let v2966 : BitVec 32 := Scalar.select v2964 v2965 v2950
  let c8_i32_1416 : BitVec 32 := 8#32
  let v2967 : BitVec 32 := Scalar.muli v2966 c8_i32_1416
  let c99928_i32 : BitVec 32 := 99928#32
  let v2968 : BitVec 32 := Scalar.minsi v2967 c99928_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v2968.toNat, v29.toNat]
def k1_cond10 (v218 : BitVec 32) (v220 : BitVec 32) : BitVec 1 :=
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c0_i32_95 : BitVec 32 := 0#32
  let v243 : BitVec 1 := Scalar.cmpi .sgt v242 c0_i32_95
  let v244 : BitVec 32 := Scalar.extui v243
  let c0_i32_96 : BitVec 32 := 0#32
  let v245 : BitVec 1 := Scalar.cmpi .ne v244 c0_i32_96
  v245

@[reducible] def k1_t11_loop (v218 : BitVec 32) (v220 : BitVec 32) : Scf.Loop 32 :=
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_107 : BitVec 32 := 1#32
  ⟨c0_i32_105, v268, c1_i32_107⟩
def k1_off140 (i : grid1.Coords) (v218 : BitVec 32) (v220 : BitVec 32) (k1_t11 : Fin (k1_t11_loop v218 v220).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1446 : BitVec 32 := 64#32
  let v3026 : BitVec 32 := Scalar.muli v2949 c64_i32_1446
  let v3027 : BitVec 32 := Scalar.addi v218 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond11 (v218 : BitVec 32) (v220 : BitVec 32) (k1_t11 : Fin (k1_t11_loop v218 v220).trips) : BitVec 1 :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let v2950 : BitVec 1 := Scalar.cmpi .slt v2949 v242
  let v2951 : BitVec 32 := Scalar.extui v2950
  let c0_i32_1409 : BitVec 32 := 0#32
  let v2952 : BitVec 1 := Scalar.cmpi .ne v2951 c0_i32_1409
  v2952

def k1_off141 (i : grid1.Coords) (v218 : BitVec 32) (v220 : BitVec 32) (k1_t11 : Fin (k1_t11_loop v218 v220).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v218 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond12 (v218 : BitVec 32) (v220 : BitVec 32) (k1_t11 : Fin (k1_t11_loop v218 v220).trips) : BitVec 1 :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c1_i32_1456 : BitVec 32 := 1#32
  let v3049 : BitVec 32 := Scalar.addi v2949 c1_i32_1456
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let v3050 : BitVec 1 := Scalar.cmpi .slt v3049 v242
  let v3051 : BitVec 32 := Scalar.extui v3050
  let c0_i32_1457 : BitVec 32 := 0#32
  let v3052 : BitVec 1 := Scalar.cmpi .ne v3051 c0_i32_1457
  v3052

@[reducible] def k1_t12_loop (v218 : BitVec 32) (v220 : BitVec 32) (k1_t11 : Fin (k1_t11_loop v218 v220).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off142 (v218 : BitVec 32) (v220 : BitVec 32) (k1_t11 : Fin (k1_t11_loop v218 v220).trips) (k1_t12 : Fin (k1_t12_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t12
  let v3026 : BitVec 32 := Scalar.addi v2976 arg46
  let v3027 : Index := Scalar.indexCast v3026
  let c0_1446 : Index := 0#32
  ![v3027.toNat, 0]
def k1_off143 (v218 : BitVec 32) (v220 : BitVec 32) (k1_t11 : Fin (k1_t11_loop v218 v220).trips) (k1_t12 : Fin (k1_t12_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t12
  let v3026 : BitVec 32 := Scalar.addi v2976 arg46
  let v3032 : Index := Scalar.indexCast v3026
  let c16_1447 : Index := 16#32
  ![v3032.toNat, 16]
def k1_off144 (v218 : BitVec 32) (v220 : BitVec 32) (k1_t11 : Fin (k1_t11_loop v218 v220).trips) (k1_t12 : Fin (k1_t12_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t12
  let v3026 : BitVec 32 := Scalar.addi v2976 arg46
  let v3037 : Index := Scalar.indexCast v3026
  let c32_1448 : Index := 32#32
  ![v3037.toNat, 32]
def k1_off145 (v218 : BitVec 32) (v220 : BitVec 32) (k1_t11 : Fin (k1_t11_loop v218 v220).trips) (k1_t12 : Fin (k1_t12_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t12
  let v3026 : BitVec 32 := Scalar.addi v2976 arg46
  let v3042 : Index := Scalar.indexCast v3026
  let c48_1449 : Index := 48#32
  ![v3042.toNat, 48]
def k1_off146 (v218 : BitVec 32) (v220 : BitVec 32) (k1_t11 : Fin (k1_t11_loop v218 v220).trips) (k1_t12 : Fin (k1_t12_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t12
  let v3026 : BitVec 32 := Scalar.addi v2976 arg46
  let v3047 : Index := Scalar.indexCast v3026
  let c64_1450 : Index := 64#32
  ![v3047.toNat, 64]
def k1_off147 (v218 : BitVec 32) (v220 : BitVec 32) (k1_t11 : Fin (k1_t11_loop v218 v220).trips) (k1_t12 : Fin (k1_t12_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t12
  let v3026 : BitVec 32 := Scalar.addi v2976 arg46
  let v3052 : Index := Scalar.indexCast v3026
  let c80_1451 : Index := 80#32
  ![v3052.toNat, 80]
def k1_off148 (v218 : BitVec 32) (v220 : BitVec 32) (k1_t11 : Fin (k1_t11_loop v218 v220).trips) (k1_t12 : Fin (k1_t12_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t12
  let v3026 : BitVec 32 := Scalar.addi v2976 arg46
  let v3057 : Index := Scalar.indexCast v3026
  let c96_1452 : Index := 96#32
  ![v3057.toNat, 96]
def k1_off149 (v218 : BitVec 32) (v220 : BitVec 32) (k1_t11 : Fin (k1_t11_loop v218 v220).trips) (k1_t12 : Fin (k1_t12_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t12
  let v3026 : BitVec 32 := Scalar.addi v2976 arg46
  let v3062 : Index := Scalar.indexCast v3026
  let c112_1453 : Index := 112#32
  ![v3062.toNat, 112]
def k1_off150 (v218 : BitVec 32) (v220 : BitVec 32) (k1_t11 : Fin (k1_t11_loop v218 v220).trips) (k1_t12 : Fin (k1_t12_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t12
  let v3026 : BitVec 32 := Scalar.addi v2976 arg46
  let v3067 : Index := Scalar.indexCast v3026
  let c128_1454 : Index := 128#32
  ![v3067.toNat, 128]
def k1_off151 (v218 : BitVec 32) (v220 : BitVec 32) (k1_t11 : Fin (k1_t11_loop v218 v220).trips) (k1_t12 : Fin (k1_t12_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t12
  let v3026 : BitVec 32 := Scalar.addi v2976 arg46
  let v3072 : Index := Scalar.indexCast v3026
  let c144_1455 : Index := 144#32
  ![v3072.toNat, 144]
def k1_off152 (v218 : BitVec 32) (v220 : BitVec 32) (k1_t11 : Fin (k1_t11_loop v218 v220).trips) (k1_t12 : Fin (k1_t12_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t12
  let v3026 : BitVec 32 := Scalar.addi v2976 arg46
  let v3077 : Index := Scalar.indexCast v3026
  let c160_1456 : Index := 160#32
  ![v3077.toNat, 160]
def k1_off153 (v218 : BitVec 32) (v220 : BitVec 32) (k1_t11 : Fin (k1_t11_loop v218 v220).trips) (k1_t12 : Fin (k1_t12_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t12
  let v3026 : BitVec 32 := Scalar.addi v2976 arg46
  let v3082 : Index := Scalar.indexCast v3026
  let c176_1457 : Index := 176#32
  ![v3082.toNat, 176]
def k1_off154 (v218 : BitVec 32) (v220 : BitVec 32) (k1_t11 : Fin (k1_t11_loop v218 v220).trips) (k1_t12 : Fin (k1_t12_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t12
  let v3026 : BitVec 32 := Scalar.addi v2976 arg46
  let v3087 : Index := Scalar.indexCast v3026
  let c192_1458 : Index := 192#32
  ![v3087.toNat, 192]
def k1_off155 (v218 : BitVec 32) (v220 : BitVec 32) (k1_t11 : Fin (k1_t11_loop v218 v220).trips) (k1_t12 : Fin (k1_t12_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t12
  let v3026 : BitVec 32 := Scalar.addi v2976 arg46
  let v3092 : Index := Scalar.indexCast v3026
  let c208_1459 : Index := 208#32
  ![v3092.toNat, 208]
def k1_off156 (v218 : BitVec 32) (v220 : BitVec 32) (k1_t11 : Fin (k1_t11_loop v218 v220).trips) (k1_t12 : Fin (k1_t12_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t12
  let v3026 : BitVec 32 := Scalar.addi v2976 arg46
  let v3097 : Index := Scalar.indexCast v3026
  let c224_1460 : Index := 224#32
  ![v3097.toNat, 224]
def k1_off157 (v218 : BitVec 32) (v220 : BitVec 32) (k1_t11 : Fin (k1_t11_loop v218 v220).trips) (k1_t12 : Fin (k1_t12_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t12
  let v3026 : BitVec 32 := Scalar.addi v2976 arg46
  let v3102 : Index := Scalar.indexCast v3026
  let c240_1461 : Index := 240#32
  ![v3102.toNat, 240]
@[reducible] def k1_t13_loop (v218 : BitVec 32) (v220 : BitVec 32) (k1_t11 : Fin (k1_t11_loop v218 v220).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off158 (v218 : BitVec 32) (v220 : BitVec 32) (k1_t11 : Fin (k1_t11_loop v218 v220).trips) (k1_t13 : Fin (k1_t13_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t13
  let v3026 : BitVec 32 := Scalar.addi v2976 arg46
  let v3027 : Index := Scalar.indexCast v3026
  let c0_1446 : Index := 0#32
  ![v3027.toNat, 0]
def k1_off159 (v218 : BitVec 32) (v220 : BitVec 32) (k1_t11 : Fin (k1_t11_loop v218 v220).trips) (k1_t13 : Fin (k1_t13_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t13
  let v3026 : BitVec 32 := Scalar.addi v2976 arg46
  let v3032 : Index := Scalar.indexCast v3026
  let c16_1447 : Index := 16#32
  ![v3032.toNat, 16]
def k1_off160 (v218 : BitVec 32) (v220 : BitVec 32) (k1_t11 : Fin (k1_t11_loop v218 v220).trips) (k1_t13 : Fin (k1_t13_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t13
  let v3026 : BitVec 32 := Scalar.addi v2976 arg46
  let v3037 : Index := Scalar.indexCast v3026
  let c32_1448 : Index := 32#32
  ![v3037.toNat, 32]
def k1_off161 (v218 : BitVec 32) (v220 : BitVec 32) (k1_t11 : Fin (k1_t11_loop v218 v220).trips) (k1_t13 : Fin (k1_t13_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t13
  let v3026 : BitVec 32 := Scalar.addi v2976 arg46
  let v3042 : Index := Scalar.indexCast v3026
  let c48_1449 : Index := 48#32
  ![v3042.toNat, 48]
def k1_off162 (v218 : BitVec 32) (v220 : BitVec 32) (k1_t11 : Fin (k1_t11_loop v218 v220).trips) (k1_t13 : Fin (k1_t13_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t13
  let v3026 : BitVec 32 := Scalar.addi v2976 arg46
  let v3047 : Index := Scalar.indexCast v3026
  let c64_1450 : Index := 64#32
  ![v3047.toNat, 64]
def k1_off163 (v218 : BitVec 32) (v220 : BitVec 32) (k1_t11 : Fin (k1_t11_loop v218 v220).trips) (k1_t13 : Fin (k1_t13_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t13
  let v3026 : BitVec 32 := Scalar.addi v2976 arg46
  let v3052 : Index := Scalar.indexCast v3026
  let c80_1451 : Index := 80#32
  ![v3052.toNat, 80]
def k1_off164 (v218 : BitVec 32) (v220 : BitVec 32) (k1_t11 : Fin (k1_t11_loop v218 v220).trips) (k1_t13 : Fin (k1_t13_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t13
  let v3026 : BitVec 32 := Scalar.addi v2976 arg46
  let v3057 : Index := Scalar.indexCast v3026
  let c96_1452 : Index := 96#32
  ![v3057.toNat, 96]
def k1_off165 (v218 : BitVec 32) (v220 : BitVec 32) (k1_t11 : Fin (k1_t11_loop v218 v220).trips) (k1_t13 : Fin (k1_t13_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t13
  let v3026 : BitVec 32 := Scalar.addi v2976 arg46
  let v3062 : Index := Scalar.indexCast v3026
  let c112_1453 : Index := 112#32
  ![v3062.toNat, 112]
def k1_off166 (v218 : BitVec 32) (v220 : BitVec 32) (k1_t11 : Fin (k1_t11_loop v218 v220).trips) (k1_t13 : Fin (k1_t13_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t13
  let v3026 : BitVec 32 := Scalar.addi v2976 arg46
  let v3067 : Index := Scalar.indexCast v3026
  let c128_1454 : Index := 128#32
  ![v3067.toNat, 128]
def k1_off167 (v218 : BitVec 32) (v220 : BitVec 32) (k1_t11 : Fin (k1_t11_loop v218 v220).trips) (k1_t13 : Fin (k1_t13_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t13
  let v3026 : BitVec 32 := Scalar.addi v2976 arg46
  let v3072 : Index := Scalar.indexCast v3026
  let c144_1455 : Index := 144#32
  ![v3072.toNat, 144]
def k1_off168 (v218 : BitVec 32) (v220 : BitVec 32) (k1_t11 : Fin (k1_t11_loop v218 v220).trips) (k1_t13 : Fin (k1_t13_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t13
  let v3026 : BitVec 32 := Scalar.addi v2976 arg46
  let v3077 : Index := Scalar.indexCast v3026
  let c160_1456 : Index := 160#32
  ![v3077.toNat, 160]
def k1_off169 (v218 : BitVec 32) (v220 : BitVec 32) (k1_t11 : Fin (k1_t11_loop v218 v220).trips) (k1_t13 : Fin (k1_t13_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t13
  let v3026 : BitVec 32 := Scalar.addi v2976 arg46
  let v3082 : Index := Scalar.indexCast v3026
  let c176_1457 : Index := 176#32
  ![v3082.toNat, 176]
def k1_off170 (v218 : BitVec 32) (v220 : BitVec 32) (k1_t11 : Fin (k1_t11_loop v218 v220).trips) (k1_t13 : Fin (k1_t13_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t13
  let v3026 : BitVec 32 := Scalar.addi v2976 arg46
  let v3087 : Index := Scalar.indexCast v3026
  let c192_1458 : Index := 192#32
  ![v3087.toNat, 192]
def k1_off171 (v218 : BitVec 32) (v220 : BitVec 32) (k1_t11 : Fin (k1_t11_loop v218 v220).trips) (k1_t13 : Fin (k1_t13_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t13
  let v3026 : BitVec 32 := Scalar.addi v2976 arg46
  let v3092 : Index := Scalar.indexCast v3026
  let c208_1459 : Index := 208#32
  ![v3092.toNat, 208]
def k1_off172 (v218 : BitVec 32) (v220 : BitVec 32) (k1_t11 : Fin (k1_t11_loop v218 v220).trips) (k1_t13 : Fin (k1_t13_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t13
  let v3026 : BitVec 32 := Scalar.addi v2976 arg46
  let v3097 : Index := Scalar.indexCast v3026
  let c224_1460 : Index := 224#32
  ![v3097.toNat, 224]
def k1_off173 (v218 : BitVec 32) (v220 : BitVec 32) (k1_t11 : Fin (k1_t11_loop v218 v220).trips) (k1_t13 : Fin (k1_t13_loop v218 v220 k1_t11).trips) : Fin 2 → Nat :=
  let c2_i32_1408 : BitVec 32 := 2#32
  let c0_i32_105 : BitVec 32 := 0#32
  let c1_i32_107 : BitVec 32 := 1#32
  let arg13 : BitVec 32 := Scf.iv c0_i32_105 c1_i32_107 k1_t11
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t13
  let v3026 : BitVec 32 := Scalar.addi v2976 arg46
  let v3102 : Index := Scalar.indexCast v3026
  let c240_1461 : Index := 240#32
  ![v3102.toNat, 240]
def k1_off174 (i : grid1.Coords) (v218 : BitVec 32) (v220 : BitVec 32) (k1_t11 : Fin (k1_t11_loop v218 v220).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v218 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond13 (v218 : BitVec 32) (v220 : BitVec 32) (k1_t11 : Fin (k1_t11_loop v218 v220).trips) : BitVec 1 :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let v2989 : BitVec 1 := Scalar.cmpi .slt v2988 v242
  let v2990 : BitVec 32 := Scalar.extui v2989
  let c0_i32_1428 : BitVec 32 := 0#32
  let v2991 : BitVec 1 := Scalar.cmpi .ne v2990 c0_i32_1428
  v2991

def k1_off175 (i : grid1.Coords) (v218 : BitVec 32) (v220 : BitVec 32) (k1_t11 : Fin (k1_t11_loop v218 v220).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v218 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond14 (v218 : BitVec 32) (v220 : BitVec 32) (k1_t11 : Fin (k1_t11_loop v218 v220).trips) : BitVec 1 :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let v3050 : BitVec 1 := Scalar.cmpi .slt v3049 v242
  let v3051 : BitVec 32 := Scalar.extui v3050
  let c0_i32_1457 : BitVec 32 := 0#32
  let v3052 : BitVec 1 := Scalar.cmpi .ne v3051 c0_i32_1457
  v3052

@[reducible] def k1_t14_loop (v218 : BitVec 32) (v220 : BitVec 32) (k1_t11 : Fin (k1_t11_loop v218 v220).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off176 (v218 : BitVec 32) (v220 : BitVec 32) (k1_t11 : Fin (k1_t11_loop v218 v220).trips) (k1_t14 : Fin (k1_t14_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t14
  let v3026 : BitVec 32 := Scalar.addi v3015 arg46
  let v3027 : Index := Scalar.indexCast v3026
  let c0_1446 : Index := 0#32
  ![v3027.toNat, 0]
def k1_off177 (v218 : BitVec 32) (v220 : BitVec 32) (k1_t11 : Fin (k1_t11_loop v218 v220).trips) (k1_t14 : Fin (k1_t14_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t14
  let v3026 : BitVec 32 := Scalar.addi v3015 arg46
  let v3032 : Index := Scalar.indexCast v3026
  let c16_1447 : Index := 16#32
  ![v3032.toNat, 16]
def k1_off178 (v218 : BitVec 32) (v220 : BitVec 32) (k1_t11 : Fin (k1_t11_loop v218 v220).trips) (k1_t14 : Fin (k1_t14_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t14
  let v3026 : BitVec 32 := Scalar.addi v3015 arg46
  let v3037 : Index := Scalar.indexCast v3026
  let c32_1448 : Index := 32#32
  ![v3037.toNat, 32]
def k1_off179 (v218 : BitVec 32) (v220 : BitVec 32) (k1_t11 : Fin (k1_t11_loop v218 v220).trips) (k1_t14 : Fin (k1_t14_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t14
  let v3026 : BitVec 32 := Scalar.addi v3015 arg46
  let v3042 : Index := Scalar.indexCast v3026
  let c48_1449 : Index := 48#32
  ![v3042.toNat, 48]
def k1_off180 (v218 : BitVec 32) (v220 : BitVec 32) (k1_t11 : Fin (k1_t11_loop v218 v220).trips) (k1_t14 : Fin (k1_t14_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t14
  let v3026 : BitVec 32 := Scalar.addi v3015 arg46
  let v3047 : Index := Scalar.indexCast v3026
  let c64_1450 : Index := 64#32
  ![v3047.toNat, 64]
def k1_off181 (v218 : BitVec 32) (v220 : BitVec 32) (k1_t11 : Fin (k1_t11_loop v218 v220).trips) (k1_t14 : Fin (k1_t14_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t14
  let v3026 : BitVec 32 := Scalar.addi v3015 arg46
  let v3052 : Index := Scalar.indexCast v3026
  let c80_1451 : Index := 80#32
  ![v3052.toNat, 80]
def k1_off182 (v218 : BitVec 32) (v220 : BitVec 32) (k1_t11 : Fin (k1_t11_loop v218 v220).trips) (k1_t14 : Fin (k1_t14_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t14
  let v3026 : BitVec 32 := Scalar.addi v3015 arg46
  let v3057 : Index := Scalar.indexCast v3026
  let c96_1452 : Index := 96#32
  ![v3057.toNat, 96]
def k1_off183 (v218 : BitVec 32) (v220 : BitVec 32) (k1_t11 : Fin (k1_t11_loop v218 v220).trips) (k1_t14 : Fin (k1_t14_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t14
  let v3026 : BitVec 32 := Scalar.addi v3015 arg46
  let v3062 : Index := Scalar.indexCast v3026
  let c112_1453 : Index := 112#32
  ![v3062.toNat, 112]
def k1_off184 (v218 : BitVec 32) (v220 : BitVec 32) (k1_t11 : Fin (k1_t11_loop v218 v220).trips) (k1_t14 : Fin (k1_t14_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t14
  let v3026 : BitVec 32 := Scalar.addi v3015 arg46
  let v3067 : Index := Scalar.indexCast v3026
  let c128_1454 : Index := 128#32
  ![v3067.toNat, 128]
def k1_off185 (v218 : BitVec 32) (v220 : BitVec 32) (k1_t11 : Fin (k1_t11_loop v218 v220).trips) (k1_t14 : Fin (k1_t14_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t14
  let v3026 : BitVec 32 := Scalar.addi v3015 arg46
  let v3072 : Index := Scalar.indexCast v3026
  let c144_1455 : Index := 144#32
  ![v3072.toNat, 144]
def k1_off186 (v218 : BitVec 32) (v220 : BitVec 32) (k1_t11 : Fin (k1_t11_loop v218 v220).trips) (k1_t14 : Fin (k1_t14_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t14
  let v3026 : BitVec 32 := Scalar.addi v3015 arg46
  let v3077 : Index := Scalar.indexCast v3026
  let c160_1456 : Index := 160#32
  ![v3077.toNat, 160]
def k1_off187 (v218 : BitVec 32) (v220 : BitVec 32) (k1_t11 : Fin (k1_t11_loop v218 v220).trips) (k1_t14 : Fin (k1_t14_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t14
  let v3026 : BitVec 32 := Scalar.addi v3015 arg46
  let v3082 : Index := Scalar.indexCast v3026
  let c176_1457 : Index := 176#32
  ![v3082.toNat, 176]
def k1_off188 (v218 : BitVec 32) (v220 : BitVec 32) (k1_t11 : Fin (k1_t11_loop v218 v220).trips) (k1_t14 : Fin (k1_t14_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t14
  let v3026 : BitVec 32 := Scalar.addi v3015 arg46
  let v3087 : Index := Scalar.indexCast v3026
  let c192_1458 : Index := 192#32
  ![v3087.toNat, 192]
def k1_off189 (v218 : BitVec 32) (v220 : BitVec 32) (k1_t11 : Fin (k1_t11_loop v218 v220).trips) (k1_t14 : Fin (k1_t14_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t14
  let v3026 : BitVec 32 := Scalar.addi v3015 arg46
  let v3092 : Index := Scalar.indexCast v3026
  let c208_1459 : Index := 208#32
  ![v3092.toNat, 208]
def k1_off190 (v218 : BitVec 32) (v220 : BitVec 32) (k1_t11 : Fin (k1_t11_loop v218 v220).trips) (k1_t14 : Fin (k1_t14_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t14
  let v3026 : BitVec 32 := Scalar.addi v3015 arg46
  let v3097 : Index := Scalar.indexCast v3026
  let c224_1460 : Index := 224#32
  ![v3097.toNat, 224]
def k1_off191 (v218 : BitVec 32) (v220 : BitVec 32) (k1_t11 : Fin (k1_t11_loop v218 v220).trips) (k1_t14 : Fin (k1_t14_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t14
  let v3026 : BitVec 32 := Scalar.addi v3015 arg46
  let v3102 : Index := Scalar.indexCast v3026
  let c240_1461 : Index := 240#32
  ![v3102.toNat, 240]
@[reducible] def k1_t15_loop (v218 : BitVec 32) (v220 : BitVec 32) (k1_t11 : Fin (k1_t11_loop v218 v220).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off192 (v218 : BitVec 32) (v220 : BitVec 32) (k1_t11 : Fin (k1_t11_loop v218 v220).trips) (k1_t15 : Fin (k1_t15_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t15
  let v3026 : BitVec 32 := Scalar.addi v3015 arg46
  let v3027 : Index := Scalar.indexCast v3026
  let c0_1446 : Index := 0#32
  ![v3027.toNat, 0]
def k1_off193 (v218 : BitVec 32) (v220 : BitVec 32) (k1_t11 : Fin (k1_t11_loop v218 v220).trips) (k1_t15 : Fin (k1_t15_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t15
  let v3026 : BitVec 32 := Scalar.addi v3015 arg46
  let v3032 : Index := Scalar.indexCast v3026
  let c16_1447 : Index := 16#32
  ![v3032.toNat, 16]
def k1_off194 (v218 : BitVec 32) (v220 : BitVec 32) (k1_t11 : Fin (k1_t11_loop v218 v220).trips) (k1_t15 : Fin (k1_t15_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t15
  let v3026 : BitVec 32 := Scalar.addi v3015 arg46
  let v3037 : Index := Scalar.indexCast v3026
  let c32_1448 : Index := 32#32
  ![v3037.toNat, 32]
def k1_off195 (v218 : BitVec 32) (v220 : BitVec 32) (k1_t11 : Fin (k1_t11_loop v218 v220).trips) (k1_t15 : Fin (k1_t15_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t15
  let v3026 : BitVec 32 := Scalar.addi v3015 arg46
  let v3042 : Index := Scalar.indexCast v3026
  let c48_1449 : Index := 48#32
  ![v3042.toNat, 48]
def k1_off196 (v218 : BitVec 32) (v220 : BitVec 32) (k1_t11 : Fin (k1_t11_loop v218 v220).trips) (k1_t15 : Fin (k1_t15_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t15
  let v3026 : BitVec 32 := Scalar.addi v3015 arg46
  let v3047 : Index := Scalar.indexCast v3026
  let c64_1450 : Index := 64#32
  ![v3047.toNat, 64]
def k1_off197 (v218 : BitVec 32) (v220 : BitVec 32) (k1_t11 : Fin (k1_t11_loop v218 v220).trips) (k1_t15 : Fin (k1_t15_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t15
  let v3026 : BitVec 32 := Scalar.addi v3015 arg46
  let v3052 : Index := Scalar.indexCast v3026
  let c80_1451 : Index := 80#32
  ![v3052.toNat, 80]
def k1_off198 (v218 : BitVec 32) (v220 : BitVec 32) (k1_t11 : Fin (k1_t11_loop v218 v220).trips) (k1_t15 : Fin (k1_t15_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t15
  let v3026 : BitVec 32 := Scalar.addi v3015 arg46
  let v3057 : Index := Scalar.indexCast v3026
  let c96_1452 : Index := 96#32
  ![v3057.toNat, 96]
def k1_off199 (v218 : BitVec 32) (v220 : BitVec 32) (k1_t11 : Fin (k1_t11_loop v218 v220).trips) (k1_t15 : Fin (k1_t15_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t15
  let v3026 : BitVec 32 := Scalar.addi v3015 arg46
  let v3062 : Index := Scalar.indexCast v3026
  let c112_1453 : Index := 112#32
  ![v3062.toNat, 112]
def k1_off200 (v218 : BitVec 32) (v220 : BitVec 32) (k1_t11 : Fin (k1_t11_loop v218 v220).trips) (k1_t15 : Fin (k1_t15_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t15
  let v3026 : BitVec 32 := Scalar.addi v3015 arg46
  let v3067 : Index := Scalar.indexCast v3026
  let c128_1454 : Index := 128#32
  ![v3067.toNat, 128]
def k1_off201 (v218 : BitVec 32) (v220 : BitVec 32) (k1_t11 : Fin (k1_t11_loop v218 v220).trips) (k1_t15 : Fin (k1_t15_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t15
  let v3026 : BitVec 32 := Scalar.addi v3015 arg46
  let v3072 : Index := Scalar.indexCast v3026
  let c144_1455 : Index := 144#32
  ![v3072.toNat, 144]
def k1_off202 (v218 : BitVec 32) (v220 : BitVec 32) (k1_t11 : Fin (k1_t11_loop v218 v220).trips) (k1_t15 : Fin (k1_t15_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t15
  let v3026 : BitVec 32 := Scalar.addi v3015 arg46
  let v3077 : Index := Scalar.indexCast v3026
  let c160_1456 : Index := 160#32
  ![v3077.toNat, 160]
def k1_off203 (v218 : BitVec 32) (v220 : BitVec 32) (k1_t11 : Fin (k1_t11_loop v218 v220).trips) (k1_t15 : Fin (k1_t15_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t15
  let v3026 : BitVec 32 := Scalar.addi v3015 arg46
  let v3082 : Index := Scalar.indexCast v3026
  let c176_1457 : Index := 176#32
  ![v3082.toNat, 176]
def k1_off204 (v218 : BitVec 32) (v220 : BitVec 32) (k1_t11 : Fin (k1_t11_loop v218 v220).trips) (k1_t15 : Fin (k1_t15_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t15
  let v3026 : BitVec 32 := Scalar.addi v3015 arg46
  let v3087 : Index := Scalar.indexCast v3026
  let c192_1458 : Index := 192#32
  ![v3087.toNat, 192]
def k1_off205 (v218 : BitVec 32) (v220 : BitVec 32) (k1_t11 : Fin (k1_t11_loop v218 v220).trips) (k1_t15 : Fin (k1_t15_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t15
  let v3026 : BitVec 32 := Scalar.addi v3015 arg46
  let v3092 : Index := Scalar.indexCast v3026
  let c208_1459 : Index := 208#32
  ![v3092.toNat, 208]
def k1_off206 (v218 : BitVec 32) (v220 : BitVec 32) (k1_t11 : Fin (k1_t11_loop v218 v220).trips) (k1_t15 : Fin (k1_t15_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t15
  let v3026 : BitVec 32 := Scalar.addi v3015 arg46
  let v3097 : Index := Scalar.indexCast v3026
  let c224_1460 : Index := 224#32
  ![v3097.toNat, 224]
def k1_off207 (v218 : BitVec 32) (v220 : BitVec 32) (k1_t11 : Fin (k1_t11_loop v218 v220).trips) (k1_t15 : Fin (k1_t15_loop v218 v220 k1_t11).trips) : Fin 2 → Nat :=
  let c2_i32_1426 : BitVec 32 := 2#32
  let c0_i32_105 : BitVec 32 := 0#32
  let c1_i32_107 : BitVec 32 := 1#32
  let arg13 : BitVec 32 := Scf.iv c0_i32_105 c1_i32_107 k1_t11
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t15
  let v3026 : BitVec 32 := Scalar.addi v3015 arg46
  let v3102 : Index := Scalar.indexCast v3026
  let c240_1461 : Index := 240#32
  ![v3102.toNat, 240]
@[reducible] def k1_t16_loop (v218 : BitVec 32) (v220 : BitVec 32) : Scf.Loop 32 :=
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let v265 : BitVec 32 := Scalar.addi c0_i32_105 v264
  let c1_i32_108 : BitVec 32 := 1#32
  ⟨v268, v265, c1_i32_108⟩
def k1_off208 (i : grid1.Coords) (v218 : BitVec 32) (v220 : BitVec 32) (k1_t16 : Fin (k1_t16_loop v218 v220).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1446 : BitVec 32 := 64#32
  let v3026 : BitVec 32 := Scalar.muli v2949 c64_i32_1446
  let v3027 : BitVec 32 := Scalar.addi v218 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond15 (v218 : BitVec 32) (v220 : BitVec 32) (k1_t16 : Fin (k1_t16_loop v218 v220).trips) : BitVec 1 :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let v2950 : BitVec 1 := Scalar.cmpi .slt v2949 v242
  let v2951 : BitVec 32 := Scalar.extui v2950
  let c0_i32_1409 : BitVec 32 := 0#32
  let v2952 : BitVec 1 := Scalar.cmpi .ne v2951 c0_i32_1409
  v2952

def k1_off209 (i : grid1.Coords) (v218 : BitVec 32) (v220 : BitVec 32) (k1_t16 : Fin (k1_t16_loop v218 v220).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v218 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond16 (v218 : BitVec 32) (v220 : BitVec 32) (k1_t16 : Fin (k1_t16_loop v218 v220).trips) : BitVec 1 :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c1_i32_1456 : BitVec 32 := 1#32
  let v3049 : BitVec 32 := Scalar.addi v2949 c1_i32_1456
  let v3050 : BitVec 1 := Scalar.cmpi .slt v3049 v242
  let v3051 : BitVec 32 := Scalar.extui v3050
  let c0_i32_1457 : BitVec 32 := 0#32
  let v3052 : BitVec 1 := Scalar.cmpi .ne v3051 c0_i32_1457
  v3052

@[reducible] def k1_t17_loop (v218 : BitVec 32) (v220 : BitVec 32) (k1_t16 : Fin (k1_t16_loop v218 v220).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off210 (v218 : BitVec 32) (v220 : BitVec 32) (k1_t16 : Fin (k1_t16_loop v218 v220).trips) (k1_t17 : Fin (k1_t17_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t17
  let v3026 : BitVec 32 := Scalar.addi v2976 arg46
  let v3027 : Index := Scalar.indexCast v3026
  let c0_1446 : Index := 0#32
  ![v3027.toNat, 0]
def k1_off211 (v218 : BitVec 32) (v220 : BitVec 32) (k1_t16 : Fin (k1_t16_loop v218 v220).trips) (k1_t17 : Fin (k1_t17_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t17
  let v3026 : BitVec 32 := Scalar.addi v2976 arg46
  let v3032 : Index := Scalar.indexCast v3026
  let c16_1447 : Index := 16#32
  ![v3032.toNat, 16]
def k1_off212 (v218 : BitVec 32) (v220 : BitVec 32) (k1_t16 : Fin (k1_t16_loop v218 v220).trips) (k1_t17 : Fin (k1_t17_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t17
  let v3026 : BitVec 32 := Scalar.addi v2976 arg46
  let v3037 : Index := Scalar.indexCast v3026
  let c32_1448 : Index := 32#32
  ![v3037.toNat, 32]
def k1_off213 (v218 : BitVec 32) (v220 : BitVec 32) (k1_t16 : Fin (k1_t16_loop v218 v220).trips) (k1_t17 : Fin (k1_t17_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t17
  let v3026 : BitVec 32 := Scalar.addi v2976 arg46
  let v3042 : Index := Scalar.indexCast v3026
  let c48_1449 : Index := 48#32
  ![v3042.toNat, 48]
def k1_off214 (v218 : BitVec 32) (v220 : BitVec 32) (k1_t16 : Fin (k1_t16_loop v218 v220).trips) (k1_t17 : Fin (k1_t17_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t17
  let v3026 : BitVec 32 := Scalar.addi v2976 arg46
  let v3047 : Index := Scalar.indexCast v3026
  let c64_1450 : Index := 64#32
  ![v3047.toNat, 64]
def k1_off215 (v218 : BitVec 32) (v220 : BitVec 32) (k1_t16 : Fin (k1_t16_loop v218 v220).trips) (k1_t17 : Fin (k1_t17_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t17
  let v3026 : BitVec 32 := Scalar.addi v2976 arg46
  let v3052 : Index := Scalar.indexCast v3026
  let c80_1451 : Index := 80#32
  ![v3052.toNat, 80]
def k1_off216 (v218 : BitVec 32) (v220 : BitVec 32) (k1_t16 : Fin (k1_t16_loop v218 v220).trips) (k1_t17 : Fin (k1_t17_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t17
  let v3026 : BitVec 32 := Scalar.addi v2976 arg46
  let v3057 : Index := Scalar.indexCast v3026
  let c96_1452 : Index := 96#32
  ![v3057.toNat, 96]
def k1_off217 (v218 : BitVec 32) (v220 : BitVec 32) (k1_t16 : Fin (k1_t16_loop v218 v220).trips) (k1_t17 : Fin (k1_t17_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t17
  let v3026 : BitVec 32 := Scalar.addi v2976 arg46
  let v3062 : Index := Scalar.indexCast v3026
  let c112_1453 : Index := 112#32
  ![v3062.toNat, 112]
def k1_off218 (v218 : BitVec 32) (v220 : BitVec 32) (k1_t16 : Fin (k1_t16_loop v218 v220).trips) (k1_t17 : Fin (k1_t17_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t17
  let v3026 : BitVec 32 := Scalar.addi v2976 arg46
  let v3067 : Index := Scalar.indexCast v3026
  let c128_1454 : Index := 128#32
  ![v3067.toNat, 128]
def k1_off219 (v218 : BitVec 32) (v220 : BitVec 32) (k1_t16 : Fin (k1_t16_loop v218 v220).trips) (k1_t17 : Fin (k1_t17_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t17
  let v3026 : BitVec 32 := Scalar.addi v2976 arg46
  let v3072 : Index := Scalar.indexCast v3026
  let c144_1455 : Index := 144#32
  ![v3072.toNat, 144]
def k1_off220 (v218 : BitVec 32) (v220 : BitVec 32) (k1_t16 : Fin (k1_t16_loop v218 v220).trips) (k1_t17 : Fin (k1_t17_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t17
  let v3026 : BitVec 32 := Scalar.addi v2976 arg46
  let v3077 : Index := Scalar.indexCast v3026
  let c160_1456 : Index := 160#32
  ![v3077.toNat, 160]
def k1_off221 (v218 : BitVec 32) (v220 : BitVec 32) (k1_t16 : Fin (k1_t16_loop v218 v220).trips) (k1_t17 : Fin (k1_t17_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t17
  let v3026 : BitVec 32 := Scalar.addi v2976 arg46
  let v3082 : Index := Scalar.indexCast v3026
  let c176_1457 : Index := 176#32
  ![v3082.toNat, 176]
def k1_off222 (v218 : BitVec 32) (v220 : BitVec 32) (k1_t16 : Fin (k1_t16_loop v218 v220).trips) (k1_t17 : Fin (k1_t17_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t17
  let v3026 : BitVec 32 := Scalar.addi v2976 arg46
  let v3087 : Index := Scalar.indexCast v3026
  let c192_1458 : Index := 192#32
  ![v3087.toNat, 192]
def k1_off223 (v218 : BitVec 32) (v220 : BitVec 32) (k1_t16 : Fin (k1_t16_loop v218 v220).trips) (k1_t17 : Fin (k1_t17_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t17
  let v3026 : BitVec 32 := Scalar.addi v2976 arg46
  let v3092 : Index := Scalar.indexCast v3026
  let c208_1459 : Index := 208#32
  ![v3092.toNat, 208]
def k1_off224 (v218 : BitVec 32) (v220 : BitVec 32) (k1_t16 : Fin (k1_t16_loop v218 v220).trips) (k1_t17 : Fin (k1_t17_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t17
  let v3026 : BitVec 32 := Scalar.addi v2976 arg46
  let v3097 : Index := Scalar.indexCast v3026
  let c224_1460 : Index := 224#32
  ![v3097.toNat, 224]
def k1_off225 (v218 : BitVec 32) (v220 : BitVec 32) (k1_t16 : Fin (k1_t16_loop v218 v220).trips) (k1_t17 : Fin (k1_t17_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t17
  let v3026 : BitVec 32 := Scalar.addi v2976 arg46
  let v3102 : Index := Scalar.indexCast v3026
  let c240_1461 : Index := 240#32
  ![v3102.toNat, 240]
@[reducible] def k1_t18_loop (v218 : BitVec 32) (v220 : BitVec 32) (k1_t16 : Fin (k1_t16_loop v218 v220).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off226 (v218 : BitVec 32) (v220 : BitVec 32) (k1_t16 : Fin (k1_t16_loop v218 v220).trips) (k1_t18 : Fin (k1_t18_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t18
  let v3026 : BitVec 32 := Scalar.addi v2976 arg46
  let v3027 : Index := Scalar.indexCast v3026
  let c0_1446 : Index := 0#32
  ![v3027.toNat, 0]
def k1_off227 (v218 : BitVec 32) (v220 : BitVec 32) (k1_t16 : Fin (k1_t16_loop v218 v220).trips) (k1_t18 : Fin (k1_t18_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t18
  let v3026 : BitVec 32 := Scalar.addi v2976 arg46
  let v3032 : Index := Scalar.indexCast v3026
  let c16_1447 : Index := 16#32
  ![v3032.toNat, 16]
def k1_off228 (v218 : BitVec 32) (v220 : BitVec 32) (k1_t16 : Fin (k1_t16_loop v218 v220).trips) (k1_t18 : Fin (k1_t18_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t18
  let v3026 : BitVec 32 := Scalar.addi v2976 arg46
  let v3037 : Index := Scalar.indexCast v3026
  let c32_1448 : Index := 32#32
  ![v3037.toNat, 32]
def k1_off229 (v218 : BitVec 32) (v220 : BitVec 32) (k1_t16 : Fin (k1_t16_loop v218 v220).trips) (k1_t18 : Fin (k1_t18_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t18
  let v3026 : BitVec 32 := Scalar.addi v2976 arg46
  let v3042 : Index := Scalar.indexCast v3026
  let c48_1449 : Index := 48#32
  ![v3042.toNat, 48]
def k1_off230 (v218 : BitVec 32) (v220 : BitVec 32) (k1_t16 : Fin (k1_t16_loop v218 v220).trips) (k1_t18 : Fin (k1_t18_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t18
  let v3026 : BitVec 32 := Scalar.addi v2976 arg46
  let v3047 : Index := Scalar.indexCast v3026
  let c64_1450 : Index := 64#32
  ![v3047.toNat, 64]
def k1_off231 (v218 : BitVec 32) (v220 : BitVec 32) (k1_t16 : Fin (k1_t16_loop v218 v220).trips) (k1_t18 : Fin (k1_t18_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t18
  let v3026 : BitVec 32 := Scalar.addi v2976 arg46
  let v3052 : Index := Scalar.indexCast v3026
  let c80_1451 : Index := 80#32
  ![v3052.toNat, 80]
def k1_off232 (v218 : BitVec 32) (v220 : BitVec 32) (k1_t16 : Fin (k1_t16_loop v218 v220).trips) (k1_t18 : Fin (k1_t18_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t18
  let v3026 : BitVec 32 := Scalar.addi v2976 arg46
  let v3057 : Index := Scalar.indexCast v3026
  let c96_1452 : Index := 96#32
  ![v3057.toNat, 96]
def k1_off233 (v218 : BitVec 32) (v220 : BitVec 32) (k1_t16 : Fin (k1_t16_loop v218 v220).trips) (k1_t18 : Fin (k1_t18_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t18
  let v3026 : BitVec 32 := Scalar.addi v2976 arg46
  let v3062 : Index := Scalar.indexCast v3026
  let c112_1453 : Index := 112#32
  ![v3062.toNat, 112]
def k1_off234 (v218 : BitVec 32) (v220 : BitVec 32) (k1_t16 : Fin (k1_t16_loop v218 v220).trips) (k1_t18 : Fin (k1_t18_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t18
  let v3026 : BitVec 32 := Scalar.addi v2976 arg46
  let v3067 : Index := Scalar.indexCast v3026
  let c128_1454 : Index := 128#32
  ![v3067.toNat, 128]
def k1_off235 (v218 : BitVec 32) (v220 : BitVec 32) (k1_t16 : Fin (k1_t16_loop v218 v220).trips) (k1_t18 : Fin (k1_t18_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t18
  let v3026 : BitVec 32 := Scalar.addi v2976 arg46
  let v3072 : Index := Scalar.indexCast v3026
  let c144_1455 : Index := 144#32
  ![v3072.toNat, 144]
def k1_off236 (v218 : BitVec 32) (v220 : BitVec 32) (k1_t16 : Fin (k1_t16_loop v218 v220).trips) (k1_t18 : Fin (k1_t18_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t18
  let v3026 : BitVec 32 := Scalar.addi v2976 arg46
  let v3077 : Index := Scalar.indexCast v3026
  let c160_1456 : Index := 160#32
  ![v3077.toNat, 160]
def k1_off237 (v218 : BitVec 32) (v220 : BitVec 32) (k1_t16 : Fin (k1_t16_loop v218 v220).trips) (k1_t18 : Fin (k1_t18_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t18
  let v3026 : BitVec 32 := Scalar.addi v2976 arg46
  let v3082 : Index := Scalar.indexCast v3026
  let c176_1457 : Index := 176#32
  ![v3082.toNat, 176]
def k1_off238 (v218 : BitVec 32) (v220 : BitVec 32) (k1_t16 : Fin (k1_t16_loop v218 v220).trips) (k1_t18 : Fin (k1_t18_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t18
  let v3026 : BitVec 32 := Scalar.addi v2976 arg46
  let v3087 : Index := Scalar.indexCast v3026
  let c192_1458 : Index := 192#32
  ![v3087.toNat, 192]
def k1_off239 (v218 : BitVec 32) (v220 : BitVec 32) (k1_t16 : Fin (k1_t16_loop v218 v220).trips) (k1_t18 : Fin (k1_t18_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t18
  let v3026 : BitVec 32 := Scalar.addi v2976 arg46
  let v3092 : Index := Scalar.indexCast v3026
  let c208_1459 : Index := 208#32
  ![v3092.toNat, 208]
def k1_off240 (v218 : BitVec 32) (v220 : BitVec 32) (k1_t16 : Fin (k1_t16_loop v218 v220).trips) (k1_t18 : Fin (k1_t18_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t18
  let v3026 : BitVec 32 := Scalar.addi v2976 arg46
  let v3097 : Index := Scalar.indexCast v3026
  let c224_1460 : Index := 224#32
  ![v3097.toNat, 224]
def k1_off241 (v218 : BitVec 32) (v220 : BitVec 32) (k1_t16 : Fin (k1_t16_loop v218 v220).trips) (k1_t18 : Fin (k1_t18_loop v218 v220 k1_t16).trips) : Fin 2 → Nat :=
  let c2_i32_1408 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2949 : BitVec 32 := Scalar.muli c2_i32_1408 arg13
  let c64_i32_1410 : BitVec 32 := 64#32
  let v2953 : BitVec 32 := Scalar.muli v2949 c64_i32_1410
  let v2954 : BitVec 32 := Scalar.addi v218 v2953
  let c64_i32_1411 : BitVec 32 := 64#32
  let v2955 : BitVec 32 := Scalar.muli v2949 c64_i32_1411
  let v2956 : BitVec 32 := Scalar.addi v218 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v220 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t18
  let v3026 : BitVec 32 := Scalar.addi v2976 arg46
  let v3102 : Index := Scalar.indexCast v3026
  let c240_1461 : Index := 240#32
  ![v3102.toNat, 240]
def k1_off242 (i : grid1.Coords) (v218 : BitVec 32) (v220 : BitVec 32) (k1_t16 : Fin (k1_t16_loop v218 v220).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v218 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond17 (v218 : BitVec 32) (v220 : BitVec 32) (k1_t16 : Fin (k1_t16_loop v218 v220).trips) : BitVec 1 :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let v2989 : BitVec 1 := Scalar.cmpi .slt v2988 v242
  let v2990 : BitVec 32 := Scalar.extui v2989
  let c0_i32_1428 : BitVec 32 := 0#32
  let v2991 : BitVec 1 := Scalar.cmpi .ne v2990 c0_i32_1428
  v2991

def k1_off243 (i : grid1.Coords) (v218 : BitVec 32) (v220 : BitVec 32) (k1_t16 : Fin (k1_t16_loop v218 v220).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v218 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond18 (v218 : BitVec 32) (v220 : BitVec 32) (k1_t16 : Fin (k1_t16_loop v218 v220).trips) : BitVec 1 :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v3050 : BitVec 1 := Scalar.cmpi .slt v3049 v242
  let v3051 : BitVec 32 := Scalar.extui v3050
  let c0_i32_1457 : BitVec 32 := 0#32
  let v3052 : BitVec 1 := Scalar.cmpi .ne v3051 c0_i32_1457
  v3052

@[reducible] def k1_t19_loop (v218 : BitVec 32) (v220 : BitVec 32) (k1_t16 : Fin (k1_t16_loop v218 v220).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off244 (v218 : BitVec 32) (v220 : BitVec 32) (k1_t16 : Fin (k1_t16_loop v218 v220).trips) (k1_t19 : Fin (k1_t19_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t19
  let v3026 : BitVec 32 := Scalar.addi v3015 arg46
  let v3027 : Index := Scalar.indexCast v3026
  let c0_1446 : Index := 0#32
  ![v3027.toNat, 0]
def k1_off245 (v218 : BitVec 32) (v220 : BitVec 32) (k1_t16 : Fin (k1_t16_loop v218 v220).trips) (k1_t19 : Fin (k1_t19_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t19
  let v3026 : BitVec 32 := Scalar.addi v3015 arg46
  let v3032 : Index := Scalar.indexCast v3026
  let c16_1447 : Index := 16#32
  ![v3032.toNat, 16]
def k1_off246 (v218 : BitVec 32) (v220 : BitVec 32) (k1_t16 : Fin (k1_t16_loop v218 v220).trips) (k1_t19 : Fin (k1_t19_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t19
  let v3026 : BitVec 32 := Scalar.addi v3015 arg46
  let v3037 : Index := Scalar.indexCast v3026
  let c32_1448 : Index := 32#32
  ![v3037.toNat, 32]
def k1_off247 (v218 : BitVec 32) (v220 : BitVec 32) (k1_t16 : Fin (k1_t16_loop v218 v220).trips) (k1_t19 : Fin (k1_t19_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t19
  let v3026 : BitVec 32 := Scalar.addi v3015 arg46
  let v3042 : Index := Scalar.indexCast v3026
  let c48_1449 : Index := 48#32
  ![v3042.toNat, 48]
def k1_off248 (v218 : BitVec 32) (v220 : BitVec 32) (k1_t16 : Fin (k1_t16_loop v218 v220).trips) (k1_t19 : Fin (k1_t19_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t19
  let v3026 : BitVec 32 := Scalar.addi v3015 arg46
  let v3047 : Index := Scalar.indexCast v3026
  let c64_1450 : Index := 64#32
  ![v3047.toNat, 64]
def k1_off249 (v218 : BitVec 32) (v220 : BitVec 32) (k1_t16 : Fin (k1_t16_loop v218 v220).trips) (k1_t19 : Fin (k1_t19_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t19
  let v3026 : BitVec 32 := Scalar.addi v3015 arg46
  let v3052 : Index := Scalar.indexCast v3026
  let c80_1451 : Index := 80#32
  ![v3052.toNat, 80]
def k1_off250 (v218 : BitVec 32) (v220 : BitVec 32) (k1_t16 : Fin (k1_t16_loop v218 v220).trips) (k1_t19 : Fin (k1_t19_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t19
  let v3026 : BitVec 32 := Scalar.addi v3015 arg46
  let v3057 : Index := Scalar.indexCast v3026
  let c96_1452 : Index := 96#32
  ![v3057.toNat, 96]
def k1_off251 (v218 : BitVec 32) (v220 : BitVec 32) (k1_t16 : Fin (k1_t16_loop v218 v220).trips) (k1_t19 : Fin (k1_t19_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t19
  let v3026 : BitVec 32 := Scalar.addi v3015 arg46
  let v3062 : Index := Scalar.indexCast v3026
  let c112_1453 : Index := 112#32
  ![v3062.toNat, 112]
def k1_off252 (v218 : BitVec 32) (v220 : BitVec 32) (k1_t16 : Fin (k1_t16_loop v218 v220).trips) (k1_t19 : Fin (k1_t19_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t19
  let v3026 : BitVec 32 := Scalar.addi v3015 arg46
  let v3067 : Index := Scalar.indexCast v3026
  let c128_1454 : Index := 128#32
  ![v3067.toNat, 128]
def k1_off253 (v218 : BitVec 32) (v220 : BitVec 32) (k1_t16 : Fin (k1_t16_loop v218 v220).trips) (k1_t19 : Fin (k1_t19_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t19
  let v3026 : BitVec 32 := Scalar.addi v3015 arg46
  let v3072 : Index := Scalar.indexCast v3026
  let c144_1455 : Index := 144#32
  ![v3072.toNat, 144]
def k1_off254 (v218 : BitVec 32) (v220 : BitVec 32) (k1_t16 : Fin (k1_t16_loop v218 v220).trips) (k1_t19 : Fin (k1_t19_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t19
  let v3026 : BitVec 32 := Scalar.addi v3015 arg46
  let v3077 : Index := Scalar.indexCast v3026
  let c160_1456 : Index := 160#32
  ![v3077.toNat, 160]
def k1_off255 (v218 : BitVec 32) (v220 : BitVec 32) (k1_t16 : Fin (k1_t16_loop v218 v220).trips) (k1_t19 : Fin (k1_t19_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t19
  let v3026 : BitVec 32 := Scalar.addi v3015 arg46
  let v3082 : Index := Scalar.indexCast v3026
  let c176_1457 : Index := 176#32
  ![v3082.toNat, 176]
def k1_off256 (v218 : BitVec 32) (v220 : BitVec 32) (k1_t16 : Fin (k1_t16_loop v218 v220).trips) (k1_t19 : Fin (k1_t19_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t19
  let v3026 : BitVec 32 := Scalar.addi v3015 arg46
  let v3087 : Index := Scalar.indexCast v3026
  let c192_1458 : Index := 192#32
  ![v3087.toNat, 192]
def k1_off257 (v218 : BitVec 32) (v220 : BitVec 32) (k1_t16 : Fin (k1_t16_loop v218 v220).trips) (k1_t19 : Fin (k1_t19_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t19
  let v3026 : BitVec 32 := Scalar.addi v3015 arg46
  let v3092 : Index := Scalar.indexCast v3026
  let c208_1459 : Index := 208#32
  ![v3092.toNat, 208]
def k1_off258 (v218 : BitVec 32) (v220 : BitVec 32) (k1_t16 : Fin (k1_t16_loop v218 v220).trips) (k1_t19 : Fin (k1_t19_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t19
  let v3026 : BitVec 32 := Scalar.addi v3015 arg46
  let v3097 : Index := Scalar.indexCast v3026
  let c224_1460 : Index := 224#32
  ![v3097.toNat, 224]
def k1_off259 (v218 : BitVec 32) (v220 : BitVec 32) (k1_t16 : Fin (k1_t16_loop v218 v220).trips) (k1_t19 : Fin (k1_t19_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t19
  let v3026 : BitVec 32 := Scalar.addi v3015 arg46
  let v3102 : Index := Scalar.indexCast v3026
  let c240_1461 : Index := 240#32
  ![v3102.toNat, 240]
@[reducible] def k1_t20_loop (v218 : BitVec 32) (v220 : BitVec 32) (k1_t16 : Fin (k1_t16_loop v218 v220).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off260 (v218 : BitVec 32) (v220 : BitVec 32) (k1_t16 : Fin (k1_t16_loop v218 v220).trips) (k1_t20 : Fin (k1_t20_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t20
  let v3026 : BitVec 32 := Scalar.addi v3015 arg46
  let v3027 : Index := Scalar.indexCast v3026
  let c0_1446 : Index := 0#32
  ![v3027.toNat, 0]
def k1_off261 (v218 : BitVec 32) (v220 : BitVec 32) (k1_t16 : Fin (k1_t16_loop v218 v220).trips) (k1_t20 : Fin (k1_t20_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t20
  let v3026 : BitVec 32 := Scalar.addi v3015 arg46
  let v3032 : Index := Scalar.indexCast v3026
  let c16_1447 : Index := 16#32
  ![v3032.toNat, 16]
def k1_off262 (v218 : BitVec 32) (v220 : BitVec 32) (k1_t16 : Fin (k1_t16_loop v218 v220).trips) (k1_t20 : Fin (k1_t20_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t20
  let v3026 : BitVec 32 := Scalar.addi v3015 arg46
  let v3037 : Index := Scalar.indexCast v3026
  let c32_1448 : Index := 32#32
  ![v3037.toNat, 32]
def k1_off263 (v218 : BitVec 32) (v220 : BitVec 32) (k1_t16 : Fin (k1_t16_loop v218 v220).trips) (k1_t20 : Fin (k1_t20_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t20
  let v3026 : BitVec 32 := Scalar.addi v3015 arg46
  let v3042 : Index := Scalar.indexCast v3026
  let c48_1449 : Index := 48#32
  ![v3042.toNat, 48]
def k1_off264 (v218 : BitVec 32) (v220 : BitVec 32) (k1_t16 : Fin (k1_t16_loop v218 v220).trips) (k1_t20 : Fin (k1_t20_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t20
  let v3026 : BitVec 32 := Scalar.addi v3015 arg46
  let v3047 : Index := Scalar.indexCast v3026
  let c64_1450 : Index := 64#32
  ![v3047.toNat, 64]
def k1_off265 (v218 : BitVec 32) (v220 : BitVec 32) (k1_t16 : Fin (k1_t16_loop v218 v220).trips) (k1_t20 : Fin (k1_t20_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t20
  let v3026 : BitVec 32 := Scalar.addi v3015 arg46
  let v3052 : Index := Scalar.indexCast v3026
  let c80_1451 : Index := 80#32
  ![v3052.toNat, 80]
def k1_off266 (v218 : BitVec 32) (v220 : BitVec 32) (k1_t16 : Fin (k1_t16_loop v218 v220).trips) (k1_t20 : Fin (k1_t20_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t20
  let v3026 : BitVec 32 := Scalar.addi v3015 arg46
  let v3057 : Index := Scalar.indexCast v3026
  let c96_1452 : Index := 96#32
  ![v3057.toNat, 96]
def k1_off267 (v218 : BitVec 32) (v220 : BitVec 32) (k1_t16 : Fin (k1_t16_loop v218 v220).trips) (k1_t20 : Fin (k1_t20_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t20
  let v3026 : BitVec 32 := Scalar.addi v3015 arg46
  let v3062 : Index := Scalar.indexCast v3026
  let c112_1453 : Index := 112#32
  ![v3062.toNat, 112]
def k1_off268 (v218 : BitVec 32) (v220 : BitVec 32) (k1_t16 : Fin (k1_t16_loop v218 v220).trips) (k1_t20 : Fin (k1_t20_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t20
  let v3026 : BitVec 32 := Scalar.addi v3015 arg46
  let v3067 : Index := Scalar.indexCast v3026
  let c128_1454 : Index := 128#32
  ![v3067.toNat, 128]
def k1_off269 (v218 : BitVec 32) (v220 : BitVec 32) (k1_t16 : Fin (k1_t16_loop v218 v220).trips) (k1_t20 : Fin (k1_t20_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t20
  let v3026 : BitVec 32 := Scalar.addi v3015 arg46
  let v3072 : Index := Scalar.indexCast v3026
  let c144_1455 : Index := 144#32
  ![v3072.toNat, 144]
def k1_off270 (v218 : BitVec 32) (v220 : BitVec 32) (k1_t16 : Fin (k1_t16_loop v218 v220).trips) (k1_t20 : Fin (k1_t20_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t20
  let v3026 : BitVec 32 := Scalar.addi v3015 arg46
  let v3077 : Index := Scalar.indexCast v3026
  let c160_1456 : Index := 160#32
  ![v3077.toNat, 160]
def k1_off271 (v218 : BitVec 32) (v220 : BitVec 32) (k1_t16 : Fin (k1_t16_loop v218 v220).trips) (k1_t20 : Fin (k1_t20_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t20
  let v3026 : BitVec 32 := Scalar.addi v3015 arg46
  let v3082 : Index := Scalar.indexCast v3026
  let c176_1457 : Index := 176#32
  ![v3082.toNat, 176]
def k1_off272 (v218 : BitVec 32) (v220 : BitVec 32) (k1_t16 : Fin (k1_t16_loop v218 v220).trips) (k1_t20 : Fin (k1_t20_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t20
  let v3026 : BitVec 32 := Scalar.addi v3015 arg46
  let v3087 : Index := Scalar.indexCast v3026
  let c192_1458 : Index := 192#32
  ![v3087.toNat, 192]
def k1_off273 (v218 : BitVec 32) (v220 : BitVec 32) (k1_t16 : Fin (k1_t16_loop v218 v220).trips) (k1_t20 : Fin (k1_t20_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t20
  let v3026 : BitVec 32 := Scalar.addi v3015 arg46
  let v3092 : Index := Scalar.indexCast v3026
  let c208_1459 : Index := 208#32
  ![v3092.toNat, 208]
def k1_off274 (v218 : BitVec 32) (v220 : BitVec 32) (k1_t16 : Fin (k1_t16_loop v218 v220).trips) (k1_t20 : Fin (k1_t20_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t20
  let v3026 : BitVec 32 := Scalar.addi v3015 arg46
  let v3097 : Index := Scalar.indexCast v3026
  let c224_1460 : Index := 224#32
  ![v3097.toNat, 224]
def k1_off275 (v218 : BitVec 32) (v220 : BitVec 32) (k1_t16 : Fin (k1_t16_loop v218 v220).trips) (k1_t20 : Fin (k1_t20_loop v218 v220 k1_t16).trips) : Fin 2 → Nat :=
  let c2_i32_1426 : BitVec 32 := 2#32
  let c0_i32_105 : BitVec 32 := 0#32
  let v223 : BitVec 32 := Scalar.subi v220 v218
  let c64_i32_86 : BitVec 32 := 64#32
  let v224 : BitVec 32 := Scalar.addi v223 c64_i32_86
  let c1_i32_87 : BitVec 32 := 1#32
  let v225 : BitVec 32 := Scalar.subi v224 c1_i32_87
  let c0_i32_89 : BitVec 32 := 0#32
  let v227 : BitVec 1 := Scalar.cmpi .sgt v225 c0_i32_89
  let v228 : BitVec 32 := Scalar.extui v227
  let c0_i32_90 : BitVec 32 := 0#32
  let v229 : BitVec 1 := Scalar.cmpi .slt v225 c0_i32_90
  let v230 : BitVec 32 := Scalar.extui v229
  let v231 : BitVec 32 := Scalar.subi v228 v230
  let c64_i32_88 : BitVec 32 := 64#32
  let c0_i32_91 : BitVec 32 := 0#32
  let v232 : BitVec 1 := Scalar.cmpi .sgt c64_i32_88 c0_i32_91
  let v233 : BitVec 32 := Scalar.extui v232
  let c0_i32_92 : BitVec 32 := 0#32
  let v234 : BitVec 1 := Scalar.cmpi .slt c64_i32_88 c0_i32_92
  let v235 : BitVec 32 := Scalar.extui v234
  let v236 : BitVec 32 := Scalar.subi v233 v235
  let v237 : BitVec 1 := Scalar.cmpi .ne v231 v236
  let v238 : BitVec 32 := Scalar.remsi v225 c64_i32_88
  let c0_i32_93 : BitVec 32 := 0#32
  let v239 : BitVec 1 := Scalar.cmpi .ne v238 c0_i32_93
  let v240 : BitVec 1 := Scalar.andi v237 v239
  let v226 : BitVec 32 := Scalar.divsi v225 c64_i32_88
  let c1_i32_94 : BitVec 32 := 1#32
  let v241 : BitVec 32 := Scalar.subi v226 c1_i32_94
  let v242 : BitVec 32 := Scalar.select v240 v241 v226
  let c1_i32_97 : BitVec 32 := 1#32
  let v246 : BitVec 32 := Scalar.addi v242 c1_i32_97
  let c0_i32_99 : BitVec 32 := 0#32
  let v248 : BitVec 1 := Scalar.cmpi .sgt v246 c0_i32_99
  let v249 : BitVec 32 := Scalar.extui v248
  let c0_i32_100 : BitVec 32 := 0#32
  let v250 : BitVec 1 := Scalar.cmpi .slt v246 c0_i32_100
  let v251 : BitVec 32 := Scalar.extui v250
  let v252 : BitVec 32 := Scalar.subi v249 v251
  let c2_i32_98 : BitVec 32 := 2#32
  let c0_i32_101 : BitVec 32 := 0#32
  let v253 : BitVec 1 := Scalar.cmpi .sgt c2_i32_98 c0_i32_101
  let v254 : BitVec 32 := Scalar.extui v253
  let c0_i32_102 : BitVec 32 := 0#32
  let v255 : BitVec 1 := Scalar.cmpi .slt c2_i32_98 c0_i32_102
  let v256 : BitVec 32 := Scalar.extui v255
  let v257 : BitVec 32 := Scalar.subi v254 v256
  let v258 : BitVec 1 := Scalar.cmpi .ne v252 v257
  let v259 : BitVec 32 := Scalar.remsi v246 c2_i32_98
  let c0_i32_103 : BitVec 32 := 0#32
  let v260 : BitVec 1 := Scalar.cmpi .ne v259 c0_i32_103
  let v261 : BitVec 1 := Scalar.andi v258 v260
  let v247 : BitVec 32 := Scalar.divsi v246 c2_i32_98
  let c1_i32_104 : BitVec 32 := 1#32
  let v262 : BitVec 32 := Scalar.subi v247 c1_i32_104
  let v263 : BitVec 32 := Scalar.select v261 v262 v247
  let v264 : BitVec 32 := Scalar.subi v263 c0_i32_105
  let c1_i32_106 : BitVec 32 := 1#32
  let v266 : BitVec 32 := Scalar.divsi v264 c1_i32_106
  let v267 : BitVec 32 := Scalar.muli v266 c1_i32_106
  let v268 : BitVec 32 := Scalar.addi c0_i32_105 v267
  let c1_i32_108 : BitVec 32 := 1#32
  let arg13 : BitVec 32 := Scf.iv v268 c1_i32_108 k1_t16
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v218 v2992
  let c64_i32_1430 : BitVec 32 := 64#32
  let v2994 : BitVec 32 := Scalar.muli v2988 c64_i32_1430
  let v2995 : BitVec 32 := Scalar.addi v218 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v220 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t20
  let v3026 : BitVec 32 := Scalar.addi v3015 arg46
  let v3102 : Index := Scalar.indexCast v3026
  let c240_1461 : Index := 240#32
  ![v3102.toNat, 240]

def k1_chk2_0 (i : grid1.Coords) (v218 : BitVec 32) (v220 : BitVec 32) : Prop :=
  (∀ (k1_h10 : k1_cond10 v218 v220 = 1#1), ∀ a, (k1_off139 i v218) a + S72x256.size a ≤ S100000x512.size a) ∧
  ((k1_t11_loop v218 v220).OK) ∧
  (∀ k1_t11 : Fin (k1_t11_loop v218 v220).trips, ∀ (k1_h11 : k1_cond11 v218 v220 k1_t11 = 1#1), ∀ a, (k1_off140 i v218 v220 k1_t11) a + S72x256.size a ≤ S100000x512.size a) ∧
  (∀ k1_t11 : Fin (k1_t11_loop v218 v220).trips, ∀ (k1_h11 : k1_cond11 v218 v220 k1_t11 = 1#1), ∀ (k1_h12 : k1_cond12 v218 v220 k1_t11 = 1#1), ∀ a, (k1_off141 i v218 v220 k1_t11) a + S72x256.size a ≤ S100000x512.size a) ∧
  (∀ k1_t11 : Fin (k1_t11_loop v218 v220).trips, (k1_t12_loop v218 v220 k1_t11).OK) ∧
  (∀ (k1_t11 : Fin (k1_t11_loop v218 v220).trips) (k1_t12 : Fin (k1_t12_loop v218 v220 k1_t11).trips), ∀ a, (k1_off142 v218 v220 k1_t11 k1_t12) a + S1x16.size a ≤ S72x256.size a) ∧
  (∀ (k1_t11 : Fin (k1_t11_loop v218 v220).trips) (k1_t12 : Fin (k1_t12_loop v218 v220 k1_t11).trips), ∀ a, (k1_off143 v218 v220 k1_t11 k1_t12) a + S1x16.size a ≤ S72x256.size a) ∧
  (∀ (k1_t11 : Fin (k1_t11_loop v218 v220).trips) (k1_t12 : Fin (k1_t12_loop v218 v220 k1_t11).trips), ∀ a, (k1_off144 v218 v220 k1_t11 k1_t12) a + S1x16.size a ≤ S72x256.size a) ∧
  (∀ (k1_t11 : Fin (k1_t11_loop v218 v220).trips) (k1_t12 : Fin (k1_t12_loop v218 v220 k1_t11).trips), ∀ a, (k1_off145 v218 v220 k1_t11 k1_t12) a + S1x16.size a ≤ S72x256.size a) ∧
  (∀ (k1_t11 : Fin (k1_t11_loop v218 v220).trips) (k1_t12 : Fin (k1_t12_loop v218 v220 k1_t11).trips), ∀ a, (k1_off146 v218 v220 k1_t11 k1_t12) a + S1x16.size a ≤ S72x256.size a) ∧
  (∀ (k1_t11 : Fin (k1_t11_loop v218 v220).trips) (k1_t12 : Fin (k1_t12_loop v218 v220 k1_t11).trips), ∀ a, (k1_off147 v218 v220 k1_t11 k1_t12) a + S1x16.size a ≤ S72x256.size a) ∧
  (∀ (k1_t11 : Fin (k1_t11_loop v218 v220).trips) (k1_t12 : Fin (k1_t12_loop v218 v220 k1_t11).trips), ∀ a, (k1_off148 v218 v220 k1_t11 k1_t12) a + S1x16.size a ≤ S72x256.size a) ∧
  (∀ (k1_t11 : Fin (k1_t11_loop v218 v220).trips) (k1_t12 : Fin (k1_t12_loop v218 v220 k1_t11).trips), ∀ a, (k1_off149 v218 v220 k1_t11 k1_t12) a + S1x16.size a ≤ S72x256.size a) ∧
  (∀ (k1_t11 : Fin (k1_t11_loop v218 v220).trips) (k1_t12 : Fin (k1_t12_loop v218 v220 k1_t11).trips), ∀ a, (k1_off150 v218 v220 k1_t11 k1_t12) a + S1x16.size a ≤ S72x256.size a) ∧
  (∀ (k1_t11 : Fin (k1_t11_loop v218 v220).trips) (k1_t12 : Fin (k1_t12_loop v218 v220 k1_t11).trips), ∀ a, (k1_off151 v218 v220 k1_t11 k1_t12) a + S1x16.size a ≤ S72x256.size a) ∧
  (∀ (k1_t11 : Fin (k1_t11_loop v218 v220).trips) (k1_t12 : Fin (k1_t12_loop v218 v220 k1_t11).trips), ∀ a, (k1_off152 v218 v220 k1_t11 k1_t12) a + S1x16.size a ≤ S72x256.size a) ∧
  (∀ (k1_t11 : Fin (k1_t11_loop v218 v220).trips) (k1_t12 : Fin (k1_t12_loop v218 v220 k1_t11).trips), ∀ a, (k1_off153 v218 v220 k1_t11 k1_t12) a + S1x16.size a ≤ S72x256.size a) ∧
  (∀ (k1_t11 : Fin (k1_t11_loop v218 v220).trips) (k1_t12 : Fin (k1_t12_loop v218 v220 k1_t11).trips), ∀ a, (k1_off154 v218 v220 k1_t11 k1_t12) a + S1x16.size a ≤ S72x256.size a) ∧
  (∀ (k1_t11 : Fin (k1_t11_loop v218 v220).trips) (k1_t12 : Fin (k1_t12_loop v218 v220 k1_t11).trips), ∀ a, (k1_off155 v218 v220 k1_t11 k1_t12) a + S1x16.size a ≤ S72x256.size a) ∧
  (∀ (k1_t11 : Fin (k1_t11_loop v218 v220).trips) (k1_t12 : Fin (k1_t12_loop v218 v220 k1_t11).trips), ∀ a, (k1_off156 v218 v220 k1_t11 k1_t12) a + S1x16.size a ≤ S72x256.size a) ∧
  (∀ (k1_t11 : Fin (k1_t11_loop v218 v220).trips) (k1_t12 : Fin (k1_t12_loop v218 v220 k1_t11).trips), ∀ a, (k1_off157 v218 v220 k1_t11 k1_t12) a + S1x16.size a ≤ S72x256.size a) ∧
  (∀ k1_t11 : Fin (k1_t11_loop v218 v220).trips, (k1_t13_loop v218 v220 k1_t11).OK) ∧
  (∀ (k1_t11 : Fin (k1_t11_loop v218 v220).trips) (k1_t13 : Fin (k1_t13_loop v218 v220 k1_t11).trips), ∀ a, (k1_off158 v218 v220 k1_t11 k1_t13) a + S1x16.size a ≤ S72x256.size a) ∧
  (∀ (k1_t11 : Fin (k1_t11_loop v218 v220).trips) (k1_t13 : Fin (k1_t13_loop v218 v220 k1_t11).trips), ∀ a, (k1_off159 v218 v220 k1_t11 k1_t13) a + S1x16.size a ≤ S72x256.size a) ∧
  (∀ (k1_t11 : Fin (k1_t11_loop v218 v220).trips) (k1_t13 : Fin (k1_t13_loop v218 v220 k1_t11).trips), ∀ a, (k1_off160 v218 v220 k1_t11 k1_t13) a + S1x16.size a ≤ S72x256.size a) ∧
  (∀ (k1_t11 : Fin (k1_t11_loop v218 v220).trips) (k1_t13 : Fin (k1_t13_loop v218 v220 k1_t11).trips), ∀ a, (k1_off161 v218 v220 k1_t11 k1_t13) a + S1x16.size a ≤ S72x256.size a) ∧
  (∀ (k1_t11 : Fin (k1_t11_loop v218 v220).trips) (k1_t13 : Fin (k1_t13_loop v218 v220 k1_t11).trips), ∀ a, (k1_off162 v218 v220 k1_t11 k1_t13) a + S1x16.size a ≤ S72x256.size a) ∧
  (∀ (k1_t11 : Fin (k1_t11_loop v218 v220).trips) (k1_t13 : Fin (k1_t13_loop v218 v220 k1_t11).trips), ∀ a, (k1_off163 v218 v220 k1_t11 k1_t13) a + S1x16.size a ≤ S72x256.size a) ∧
  (∀ (k1_t11 : Fin (k1_t11_loop v218 v220).trips) (k1_t13 : Fin (k1_t13_loop v218 v220 k1_t11).trips), ∀ a, (k1_off164 v218 v220 k1_t11 k1_t13) a + S1x16.size a ≤ S72x256.size a) ∧
  (∀ (k1_t11 : Fin (k1_t11_loop v218 v220).trips) (k1_t13 : Fin (k1_t13_loop v218 v220 k1_t11).trips), ∀ a, (k1_off165 v218 v220 k1_t11 k1_t13) a + S1x16.size a ≤ S72x256.size a) ∧
  (∀ (k1_t11 : Fin (k1_t11_loop v218 v220).trips) (k1_t13 : Fin (k1_t13_loop v218 v220 k1_t11).trips), ∀ a, (k1_off166 v218 v220 k1_t11 k1_t13) a + S1x16.size a ≤ S72x256.size a) ∧
  (∀ (k1_t11 : Fin (k1_t11_loop v218 v220).trips) (k1_t13 : Fin (k1_t13_loop v218 v220 k1_t11).trips), ∀ a, (k1_off167 v218 v220 k1_t11 k1_t13) a + S1x16.size a ≤ S72x256.size a)
def k1_chk2_1 (i : grid1.Coords) (v218 : BitVec 32) (v220 : BitVec 32) : Prop :=
  (∀ (k1_t11 : Fin (k1_t11_loop v218 v220).trips) (k1_t13 : Fin (k1_t13_loop v218 v220 k1_t11).trips), ∀ a, (k1_off168 v218 v220 k1_t11 k1_t13) a + S1x16.size a ≤ S72x256.size a) ∧
  (∀ (k1_t11 : Fin (k1_t11_loop v218 v220).trips) (k1_t13 : Fin (k1_t13_loop v218 v220 k1_t11).trips), ∀ a, (k1_off169 v218 v220 k1_t11 k1_t13) a + S1x16.size a ≤ S72x256.size a) ∧
  (∀ (k1_t11 : Fin (k1_t11_loop v218 v220).trips) (k1_t13 : Fin (k1_t13_loop v218 v220 k1_t11).trips), ∀ a, (k1_off170 v218 v220 k1_t11 k1_t13) a + S1x16.size a ≤ S72x256.size a) ∧
  (∀ (k1_t11 : Fin (k1_t11_loop v218 v220).trips) (k1_t13 : Fin (k1_t13_loop v218 v220 k1_t11).trips), ∀ a, (k1_off171 v218 v220 k1_t11 k1_t13) a + S1x16.size a ≤ S72x256.size a) ∧
  (∀ (k1_t11 : Fin (k1_t11_loop v218 v220).trips) (k1_t13 : Fin (k1_t13_loop v218 v220 k1_t11).trips), ∀ a, (k1_off172 v218 v220 k1_t11 k1_t13) a + S1x16.size a ≤ S72x256.size a) ∧
  (∀ (k1_t11 : Fin (k1_t11_loop v218 v220).trips) (k1_t13 : Fin (k1_t13_loop v218 v220 k1_t11).trips), ∀ a, (k1_off173 v218 v220 k1_t11 k1_t13) a + S1x16.size a ≤ S72x256.size a) ∧
  (∀ k1_t11 : Fin (k1_t11_loop v218 v220).trips, ∀ (k1_h13 : k1_cond13 v218 v220 k1_t11 = 1#1), ∀ a, (k1_off174 i v218 v220 k1_t11) a + S72x256.size a ≤ S100000x512.size a) ∧
  (∀ k1_t11 : Fin (k1_t11_loop v218 v220).trips, ∀ (k1_h13 : k1_cond13 v218 v220 k1_t11 = 1#1), ∀ (k1_h14 : k1_cond14 v218 v220 k1_t11 = 1#1), ∀ a, (k1_off175 i v218 v220 k1_t11) a + S72x256.size a ≤ S100000x512.size a) ∧
  (∀ k1_t11 : Fin (k1_t11_loop v218 v220).trips, (k1_t14_loop v218 v220 k1_t11).OK) ∧
  (∀ (k1_t11 : Fin (k1_t11_loop v218 v220).trips) (k1_t14 : Fin (k1_t14_loop v218 v220 k1_t11).trips), ∀ a, (k1_off176 v218 v220 k1_t11 k1_t14) a + S1x16.size a ≤ S72x256.size a) ∧
  (∀ (k1_t11 : Fin (k1_t11_loop v218 v220).trips) (k1_t14 : Fin (k1_t14_loop v218 v220 k1_t11).trips), ∀ a, (k1_off177 v218 v220 k1_t11 k1_t14) a + S1x16.size a ≤ S72x256.size a) ∧
  (∀ (k1_t11 : Fin (k1_t11_loop v218 v220).trips) (k1_t14 : Fin (k1_t14_loop v218 v220 k1_t11).trips), ∀ a, (k1_off178 v218 v220 k1_t11 k1_t14) a + S1x16.size a ≤ S72x256.size a) ∧
  (∀ (k1_t11 : Fin (k1_t11_loop v218 v220).trips) (k1_t14 : Fin (k1_t14_loop v218 v220 k1_t11).trips), ∀ a, (k1_off179 v218 v220 k1_t11 k1_t14) a + S1x16.size a ≤ S72x256.size a) ∧
  (∀ (k1_t11 : Fin (k1_t11_loop v218 v220).trips) (k1_t14 : Fin (k1_t14_loop v218 v220 k1_t11).trips), ∀ a, (k1_off180 v218 v220 k1_t11 k1_t14) a + S1x16.size a ≤ S72x256.size a) ∧
  (∀ (k1_t11 : Fin (k1_t11_loop v218 v220).trips) (k1_t14 : Fin (k1_t14_loop v218 v220 k1_t11).trips), ∀ a, (k1_off181 v218 v220 k1_t11 k1_t14) a + S1x16.size a ≤ S72x256.size a) ∧
  (∀ (k1_t11 : Fin (k1_t11_loop v218 v220).trips) (k1_t14 : Fin (k1_t14_loop v218 v220 k1_t11).trips), ∀ a, (k1_off182 v218 v220 k1_t11 k1_t14) a + S1x16.size a ≤ S72x256.size a) ∧
  (∀ (k1_t11 : Fin (k1_t11_loop v218 v220).trips) (k1_t14 : Fin (k1_t14_loop v218 v220 k1_t11).trips), ∀ a, (k1_off183 v218 v220 k1_t11 k1_t14) a + S1x16.size a ≤ S72x256.size a) ∧
  (∀ (k1_t11 : Fin (k1_t11_loop v218 v220).trips) (k1_t14 : Fin (k1_t14_loop v218 v220 k1_t11).trips), ∀ a, (k1_off184 v218 v220 k1_t11 k1_t14) a + S1x16.size a ≤ S72x256.size a) ∧
  (∀ (k1_t11 : Fin (k1_t11_loop v218 v220).trips) (k1_t14 : Fin (k1_t14_loop v218 v220 k1_t11).trips), ∀ a, (k1_off185 v218 v220 k1_t11 k1_t14) a + S1x16.size a ≤ S72x256.size a) ∧
  (∀ (k1_t11 : Fin (k1_t11_loop v218 v220).trips) (k1_t14 : Fin (k1_t14_loop v218 v220 k1_t11).trips), ∀ a, (k1_off186 v218 v220 k1_t11 k1_t14) a + S1x16.size a ≤ S72x256.size a) ∧
  (∀ (k1_t11 : Fin (k1_t11_loop v218 v220).trips) (k1_t14 : Fin (k1_t14_loop v218 v220 k1_t11).trips), ∀ a, (k1_off187 v218 v220 k1_t11 k1_t14) a + S1x16.size a ≤ S72x256.size a) ∧
  (∀ (k1_t11 : Fin (k1_t11_loop v218 v220).trips) (k1_t14 : Fin (k1_t14_loop v218 v220 k1_t11).trips), ∀ a, (k1_off188 v218 v220 k1_t11 k1_t14) a + S1x16.size a ≤ S72x256.size a) ∧
  (∀ (k1_t11 : Fin (k1_t11_loop v218 v220).trips) (k1_t14 : Fin (k1_t14_loop v218 v220 k1_t11).trips), ∀ a, (k1_off189 v218 v220 k1_t11 k1_t14) a + S1x16.size a ≤ S72x256.size a) ∧
  (∀ (k1_t11 : Fin (k1_t11_loop v218 v220).trips) (k1_t14 : Fin (k1_t14_loop v218 v220 k1_t11).trips), ∀ a, (k1_off190 v218 v220 k1_t11 k1_t14) a + S1x16.size a ≤ S72x256.size a) ∧
  (∀ (k1_t11 : Fin (k1_t11_loop v218 v220).trips) (k1_t14 : Fin (k1_t14_loop v218 v220 k1_t11).trips), ∀ a, (k1_off191 v218 v220 k1_t11 k1_t14) a + S1x16.size a ≤ S72x256.size a) ∧
  (∀ k1_t11 : Fin (k1_t11_loop v218 v220).trips, (k1_t15_loop v218 v220 k1_t11).OK) ∧
  (∀ (k1_t11 : Fin (k1_t11_loop v218 v220).trips) (k1_t15 : Fin (k1_t15_loop v218 v220 k1_t11).trips), ∀ a, (k1_off192 v218 v220 k1_t11 k1_t15) a + S1x16.size a ≤ S72x256.size a) ∧
  (∀ (k1_t11 : Fin (k1_t11_loop v218 v220).trips) (k1_t15 : Fin (k1_t15_loop v218 v220 k1_t11).trips), ∀ a, (k1_off193 v218 v220 k1_t11 k1_t15) a + S1x16.size a ≤ S72x256.size a) ∧
  (∀ (k1_t11 : Fin (k1_t11_loop v218 v220).trips) (k1_t15 : Fin (k1_t15_loop v218 v220 k1_t11).trips), ∀ a, (k1_off194 v218 v220 k1_t11 k1_t15) a + S1x16.size a ≤ S72x256.size a) ∧
  (∀ (k1_t11 : Fin (k1_t11_loop v218 v220).trips) (k1_t15 : Fin (k1_t15_loop v218 v220 k1_t11).trips), ∀ a, (k1_off195 v218 v220 k1_t11 k1_t15) a + S1x16.size a ≤ S72x256.size a) ∧
  (∀ (k1_t11 : Fin (k1_t11_loop v218 v220).trips) (k1_t15 : Fin (k1_t15_loop v218 v220 k1_t11).trips), ∀ a, (k1_off196 v218 v220 k1_t11 k1_t15) a + S1x16.size a ≤ S72x256.size a) ∧
  (∀ (k1_t11 : Fin (k1_t11_loop v218 v220).trips) (k1_t15 : Fin (k1_t15_loop v218 v220 k1_t11).trips), ∀ a, (k1_off197 v218 v220 k1_t11 k1_t15) a + S1x16.size a ≤ S72x256.size a)
def k1_chk2_2 (i : grid1.Coords) (v218 : BitVec 32) (v220 : BitVec 32) : Prop :=
  (∀ (k1_t11 : Fin (k1_t11_loop v218 v220).trips) (k1_t15 : Fin (k1_t15_loop v218 v220 k1_t11).trips), ∀ a, (k1_off198 v218 v220 k1_t11 k1_t15) a + S1x16.size a ≤ S72x256.size a) ∧
  (∀ (k1_t11 : Fin (k1_t11_loop v218 v220).trips) (k1_t15 : Fin (k1_t15_loop v218 v220 k1_t11).trips), ∀ a, (k1_off199 v218 v220 k1_t11 k1_t15) a + S1x16.size a ≤ S72x256.size a) ∧
  (∀ (k1_t11 : Fin (k1_t11_loop v218 v220).trips) (k1_t15 : Fin (k1_t15_loop v218 v220 k1_t11).trips), ∀ a, (k1_off200 v218 v220 k1_t11 k1_t15) a + S1x16.size a ≤ S72x256.size a) ∧
  (∀ (k1_t11 : Fin (k1_t11_loop v218 v220).trips) (k1_t15 : Fin (k1_t15_loop v218 v220 k1_t11).trips), ∀ a, (k1_off201 v218 v220 k1_t11 k1_t15) a + S1x16.size a ≤ S72x256.size a) ∧
  (∀ (k1_t11 : Fin (k1_t11_loop v218 v220).trips) (k1_t15 : Fin (k1_t15_loop v218 v220 k1_t11).trips), ∀ a, (k1_off202 v218 v220 k1_t11 k1_t15) a + S1x16.size a ≤ S72x256.size a) ∧
  (∀ (k1_t11 : Fin (k1_t11_loop v218 v220).trips) (k1_t15 : Fin (k1_t15_loop v218 v220 k1_t11).trips), ∀ a, (k1_off203 v218 v220 k1_t11 k1_t15) a + S1x16.size a ≤ S72x256.size a) ∧
  (∀ (k1_t11 : Fin (k1_t11_loop v218 v220).trips) (k1_t15 : Fin (k1_t15_loop v218 v220 k1_t11).trips), ∀ a, (k1_off204 v218 v220 k1_t11 k1_t15) a + S1x16.size a ≤ S72x256.size a) ∧
  (∀ (k1_t11 : Fin (k1_t11_loop v218 v220).trips) (k1_t15 : Fin (k1_t15_loop v218 v220 k1_t11).trips), ∀ a, (k1_off205 v218 v220 k1_t11 k1_t15) a + S1x16.size a ≤ S72x256.size a) ∧
  (∀ (k1_t11 : Fin (k1_t11_loop v218 v220).trips) (k1_t15 : Fin (k1_t15_loop v218 v220 k1_t11).trips), ∀ a, (k1_off206 v218 v220 k1_t11 k1_t15) a + S1x16.size a ≤ S72x256.size a) ∧
  (∀ (k1_t11 : Fin (k1_t11_loop v218 v220).trips) (k1_t15 : Fin (k1_t15_loop v218 v220 k1_t11).trips), ∀ a, (k1_off207 v218 v220 k1_t11 k1_t15) a + S1x16.size a ≤ S72x256.size a) ∧
  ((k1_t16_loop v218 v220).OK) ∧
  (∀ k1_t16 : Fin (k1_t16_loop v218 v220).trips, ∀ (k1_h15 : k1_cond15 v218 v220 k1_t16 = 1#1), ∀ a, (k1_off208 i v218 v220 k1_t16) a + S72x256.size a ≤ S100000x512.size a) ∧
  (∀ k1_t16 : Fin (k1_t16_loop v218 v220).trips, ∀ (k1_h15 : k1_cond15 v218 v220 k1_t16 = 1#1), ∀ (k1_h16 : k1_cond16 v218 v220 k1_t16 = 1#1), ∀ a, (k1_off209 i v218 v220 k1_t16) a + S72x256.size a ≤ S100000x512.size a) ∧
  (∀ k1_t16 : Fin (k1_t16_loop v218 v220).trips, (k1_t17_loop v218 v220 k1_t16).OK) ∧
  (∀ (k1_t16 : Fin (k1_t16_loop v218 v220).trips) (k1_t17 : Fin (k1_t17_loop v218 v220 k1_t16).trips), ∀ a, (k1_off210 v218 v220 k1_t16 k1_t17) a + S1x16.size a ≤ S72x256.size a) ∧
  (∀ (k1_t16 : Fin (k1_t16_loop v218 v220).trips) (k1_t17 : Fin (k1_t17_loop v218 v220 k1_t16).trips), ∀ a, (k1_off211 v218 v220 k1_t16 k1_t17) a + S1x16.size a ≤ S72x256.size a) ∧
  (∀ (k1_t16 : Fin (k1_t16_loop v218 v220).trips) (k1_t17 : Fin (k1_t17_loop v218 v220 k1_t16).trips), ∀ a, (k1_off212 v218 v220 k1_t16 k1_t17) a + S1x16.size a ≤ S72x256.size a) ∧
  (∀ (k1_t16 : Fin (k1_t16_loop v218 v220).trips) (k1_t17 : Fin (k1_t17_loop v218 v220 k1_t16).trips), ∀ a, (k1_off213 v218 v220 k1_t16 k1_t17) a + S1x16.size a ≤ S72x256.size a) ∧
  (∀ (k1_t16 : Fin (k1_t16_loop v218 v220).trips) (k1_t17 : Fin (k1_t17_loop v218 v220 k1_t16).trips), ∀ a, (k1_off214 v218 v220 k1_t16 k1_t17) a + S1x16.size a ≤ S72x256.size a) ∧
  (∀ (k1_t16 : Fin (k1_t16_loop v218 v220).trips) (k1_t17 : Fin (k1_t17_loop v218 v220 k1_t16).trips), ∀ a, (k1_off215 v218 v220 k1_t16 k1_t17) a + S1x16.size a ≤ S72x256.size a) ∧
  (∀ (k1_t16 : Fin (k1_t16_loop v218 v220).trips) (k1_t17 : Fin (k1_t17_loop v218 v220 k1_t16).trips), ∀ a, (k1_off216 v218 v220 k1_t16 k1_t17) a + S1x16.size a ≤ S72x256.size a) ∧
  (∀ (k1_t16 : Fin (k1_t16_loop v218 v220).trips) (k1_t17 : Fin (k1_t17_loop v218 v220 k1_t16).trips), ∀ a, (k1_off217 v218 v220 k1_t16 k1_t17) a + S1x16.size a ≤ S72x256.size a) ∧
  (∀ (k1_t16 : Fin (k1_t16_loop v218 v220).trips) (k1_t17 : Fin (k1_t17_loop v218 v220 k1_t16).trips), ∀ a, (k1_off218 v218 v220 k1_t16 k1_t17) a + S1x16.size a ≤ S72x256.size a) ∧
  (∀ (k1_t16 : Fin (k1_t16_loop v218 v220).trips) (k1_t17 : Fin (k1_t17_loop v218 v220 k1_t16).trips), ∀ a, (k1_off219 v218 v220 k1_t16 k1_t17) a + S1x16.size a ≤ S72x256.size a) ∧
  (∀ (k1_t16 : Fin (k1_t16_loop v218 v220).trips) (k1_t17 : Fin (k1_t17_loop v218 v220 k1_t16).trips), ∀ a, (k1_off220 v218 v220 k1_t16 k1_t17) a + S1x16.size a ≤ S72x256.size a) ∧
  (∀ (k1_t16 : Fin (k1_t16_loop v218 v220).trips) (k1_t17 : Fin (k1_t17_loop v218 v220 k1_t16).trips), ∀ a, (k1_off221 v218 v220 k1_t16 k1_t17) a + S1x16.size a ≤ S72x256.size a) ∧
  (∀ (k1_t16 : Fin (k1_t16_loop v218 v220).trips) (k1_t17 : Fin (k1_t17_loop v218 v220 k1_t16).trips), ∀ a, (k1_off222 v218 v220 k1_t16 k1_t17) a + S1x16.size a ≤ S72x256.size a) ∧
  (∀ (k1_t16 : Fin (k1_t16_loop v218 v220).trips) (k1_t17 : Fin (k1_t17_loop v218 v220 k1_t16).trips), ∀ a, (k1_off223 v218 v220 k1_t16 k1_t17) a + S1x16.size a ≤ S72x256.size a) ∧
  (∀ (k1_t16 : Fin (k1_t16_loop v218 v220).trips) (k1_t17 : Fin (k1_t17_loop v218 v220 k1_t16).trips), ∀ a, (k1_off224 v218 v220 k1_t16 k1_t17) a + S1x16.size a ≤ S72x256.size a) ∧
  (∀ (k1_t16 : Fin (k1_t16_loop v218 v220).trips) (k1_t17 : Fin (k1_t17_loop v218 v220 k1_t16).trips), ∀ a, (k1_off225 v218 v220 k1_t16 k1_t17) a + S1x16.size a ≤ S72x256.size a) ∧
  (∀ k1_t16 : Fin (k1_t16_loop v218 v220).trips, (k1_t18_loop v218 v220 k1_t16).OK) ∧
  (∀ (k1_t16 : Fin (k1_t16_loop v218 v220).trips) (k1_t18 : Fin (k1_t18_loop v218 v220 k1_t16).trips), ∀ a, (k1_off226 v218 v220 k1_t16 k1_t18) a + S1x16.size a ≤ S72x256.size a)
def k1_chk2_3 (i : grid1.Coords) (v218 : BitVec 32) (v220 : BitVec 32) : Prop :=
  (∀ (k1_t16 : Fin (k1_t16_loop v218 v220).trips) (k1_t18 : Fin (k1_t18_loop v218 v220 k1_t16).trips), ∀ a, (k1_off227 v218 v220 k1_t16 k1_t18) a + S1x16.size a ≤ S72x256.size a) ∧
  (∀ (k1_t16 : Fin (k1_t16_loop v218 v220).trips) (k1_t18 : Fin (k1_t18_loop v218 v220 k1_t16).trips), ∀ a, (k1_off228 v218 v220 k1_t16 k1_t18) a + S1x16.size a ≤ S72x256.size a) ∧
  (∀ (k1_t16 : Fin (k1_t16_loop v218 v220).trips) (k1_t18 : Fin (k1_t18_loop v218 v220 k1_t16).trips), ∀ a, (k1_off229 v218 v220 k1_t16 k1_t18) a + S1x16.size a ≤ S72x256.size a) ∧
  (∀ (k1_t16 : Fin (k1_t16_loop v218 v220).trips) (k1_t18 : Fin (k1_t18_loop v218 v220 k1_t16).trips), ∀ a, (k1_off230 v218 v220 k1_t16 k1_t18) a + S1x16.size a ≤ S72x256.size a) ∧
  (∀ (k1_t16 : Fin (k1_t16_loop v218 v220).trips) (k1_t18 : Fin (k1_t18_loop v218 v220 k1_t16).trips), ∀ a, (k1_off231 v218 v220 k1_t16 k1_t18) a + S1x16.size a ≤ S72x256.size a) ∧
  (∀ (k1_t16 : Fin (k1_t16_loop v218 v220).trips) (k1_t18 : Fin (k1_t18_loop v218 v220 k1_t16).trips), ∀ a, (k1_off232 v218 v220 k1_t16 k1_t18) a + S1x16.size a ≤ S72x256.size a) ∧
  (∀ (k1_t16 : Fin (k1_t16_loop v218 v220).trips) (k1_t18 : Fin (k1_t18_loop v218 v220 k1_t16).trips), ∀ a, (k1_off233 v218 v220 k1_t16 k1_t18) a + S1x16.size a ≤ S72x256.size a) ∧
  (∀ (k1_t16 : Fin (k1_t16_loop v218 v220).trips) (k1_t18 : Fin (k1_t18_loop v218 v220 k1_t16).trips), ∀ a, (k1_off234 v218 v220 k1_t16 k1_t18) a + S1x16.size a ≤ S72x256.size a) ∧
  (∀ (k1_t16 : Fin (k1_t16_loop v218 v220).trips) (k1_t18 : Fin (k1_t18_loop v218 v220 k1_t16).trips), ∀ a, (k1_off235 v218 v220 k1_t16 k1_t18) a + S1x16.size a ≤ S72x256.size a) ∧
  (∀ (k1_t16 : Fin (k1_t16_loop v218 v220).trips) (k1_t18 : Fin (k1_t18_loop v218 v220 k1_t16).trips), ∀ a, (k1_off236 v218 v220 k1_t16 k1_t18) a + S1x16.size a ≤ S72x256.size a) ∧
  (∀ (k1_t16 : Fin (k1_t16_loop v218 v220).trips) (k1_t18 : Fin (k1_t18_loop v218 v220 k1_t16).trips), ∀ a, (k1_off237 v218 v220 k1_t16 k1_t18) a + S1x16.size a ≤ S72x256.size a) ∧
  (∀ (k1_t16 : Fin (k1_t16_loop v218 v220).trips) (k1_t18 : Fin (k1_t18_loop v218 v220 k1_t16).trips), ∀ a, (k1_off238 v218 v220 k1_t16 k1_t18) a + S1x16.size a ≤ S72x256.size a) ∧
  (∀ (k1_t16 : Fin (k1_t16_loop v218 v220).trips) (k1_t18 : Fin (k1_t18_loop v218 v220 k1_t16).trips), ∀ a, (k1_off239 v218 v220 k1_t16 k1_t18) a + S1x16.size a ≤ S72x256.size a) ∧
  (∀ (k1_t16 : Fin (k1_t16_loop v218 v220).trips) (k1_t18 : Fin (k1_t18_loop v218 v220 k1_t16).trips), ∀ a, (k1_off240 v218 v220 k1_t16 k1_t18) a + S1x16.size a ≤ S72x256.size a) ∧
  (∀ (k1_t16 : Fin (k1_t16_loop v218 v220).trips) (k1_t18 : Fin (k1_t18_loop v218 v220 k1_t16).trips), ∀ a, (k1_off241 v218 v220 k1_t16 k1_t18) a + S1x16.size a ≤ S72x256.size a) ∧
  (∀ k1_t16 : Fin (k1_t16_loop v218 v220).trips, ∀ (k1_h17 : k1_cond17 v218 v220 k1_t16 = 1#1), ∀ a, (k1_off242 i v218 v220 k1_t16) a + S72x256.size a ≤ S100000x512.size a) ∧
  (∀ k1_t16 : Fin (k1_t16_loop v218 v220).trips, ∀ (k1_h17 : k1_cond17 v218 v220 k1_t16 = 1#1), ∀ (k1_h18 : k1_cond18 v218 v220 k1_t16 = 1#1), ∀ a, (k1_off243 i v218 v220 k1_t16) a + S72x256.size a ≤ S100000x512.size a) ∧
  (∀ k1_t16 : Fin (k1_t16_loop v218 v220).trips, (k1_t19_loop v218 v220 k1_t16).OK) ∧
  (∀ (k1_t16 : Fin (k1_t16_loop v218 v220).trips) (k1_t19 : Fin (k1_t19_loop v218 v220 k1_t16).trips), ∀ a, (k1_off244 v218 v220 k1_t16 k1_t19) a + S1x16.size a ≤ S72x256.size a) ∧
  (∀ (k1_t16 : Fin (k1_t16_loop v218 v220).trips) (k1_t19 : Fin (k1_t19_loop v218 v220 k1_t16).trips), ∀ a, (k1_off245 v218 v220 k1_t16 k1_t19) a + S1x16.size a ≤ S72x256.size a) ∧
  (∀ (k1_t16 : Fin (k1_t16_loop v218 v220).trips) (k1_t19 : Fin (k1_t19_loop v218 v220 k1_t16).trips), ∀ a, (k1_off246 v218 v220 k1_t16 k1_t19) a + S1x16.size a ≤ S72x256.size a) ∧
  (∀ (k1_t16 : Fin (k1_t16_loop v218 v220).trips) (k1_t19 : Fin (k1_t19_loop v218 v220 k1_t16).trips), ∀ a, (k1_off247 v218 v220 k1_t16 k1_t19) a + S1x16.size a ≤ S72x256.size a) ∧
  (∀ (k1_t16 : Fin (k1_t16_loop v218 v220).trips) (k1_t19 : Fin (k1_t19_loop v218 v220 k1_t16).trips), ∀ a, (k1_off248 v218 v220 k1_t16 k1_t19) a + S1x16.size a ≤ S72x256.size a) ∧
  (∀ (k1_t16 : Fin (k1_t16_loop v218 v220).trips) (k1_t19 : Fin (k1_t19_loop v218 v220 k1_t16).trips), ∀ a, (k1_off249 v218 v220 k1_t16 k1_t19) a + S1x16.size a ≤ S72x256.size a) ∧
  (∀ (k1_t16 : Fin (k1_t16_loop v218 v220).trips) (k1_t19 : Fin (k1_t19_loop v218 v220 k1_t16).trips), ∀ a, (k1_off250 v218 v220 k1_t16 k1_t19) a + S1x16.size a ≤ S72x256.size a) ∧
  (∀ (k1_t16 : Fin (k1_t16_loop v218 v220).trips) (k1_t19 : Fin (k1_t19_loop v218 v220 k1_t16).trips), ∀ a, (k1_off251 v218 v220 k1_t16 k1_t19) a + S1x16.size a ≤ S72x256.size a) ∧
  (∀ (k1_t16 : Fin (k1_t16_loop v218 v220).trips) (k1_t19 : Fin (k1_t19_loop v218 v220 k1_t16).trips), ∀ a, (k1_off252 v218 v220 k1_t16 k1_t19) a + S1x16.size a ≤ S72x256.size a) ∧
  (∀ (k1_t16 : Fin (k1_t16_loop v218 v220).trips) (k1_t19 : Fin (k1_t19_loop v218 v220 k1_t16).trips), ∀ a, (k1_off253 v218 v220 k1_t16 k1_t19) a + S1x16.size a ≤ S72x256.size a) ∧
  (∀ (k1_t16 : Fin (k1_t16_loop v218 v220).trips) (k1_t19 : Fin (k1_t19_loop v218 v220 k1_t16).trips), ∀ a, (k1_off254 v218 v220 k1_t16 k1_t19) a + S1x16.size a ≤ S72x256.size a) ∧
  (∀ (k1_t16 : Fin (k1_t16_loop v218 v220).trips) (k1_t19 : Fin (k1_t19_loop v218 v220 k1_t16).trips), ∀ a, (k1_off255 v218 v220 k1_t16 k1_t19) a + S1x16.size a ≤ S72x256.size a) ∧
  (∀ (k1_t16 : Fin (k1_t16_loop v218 v220).trips) (k1_t19 : Fin (k1_t19_loop v218 v220 k1_t16).trips), ∀ a, (k1_off256 v218 v220 k1_t16 k1_t19) a + S1x16.size a ≤ S72x256.size a) ∧
  (∀ (k1_t16 : Fin (k1_t16_loop v218 v220).trips) (k1_t19 : Fin (k1_t19_loop v218 v220 k1_t16).trips), ∀ a, (k1_off257 v218 v220 k1_t16 k1_t19) a + S1x16.size a ≤ S72x256.size a)
def k1_chk2_4 (i : grid1.Coords) (v218 : BitVec 32) (v220 : BitVec 32) : Prop :=
  (∀ (k1_t16 : Fin (k1_t16_loop v218 v220).trips) (k1_t19 : Fin (k1_t19_loop v218 v220 k1_t16).trips), ∀ a, (k1_off258 v218 v220 k1_t16 k1_t19) a + S1x16.size a ≤ S72x256.size a) ∧
  (∀ (k1_t16 : Fin (k1_t16_loop v218 v220).trips) (k1_t19 : Fin (k1_t19_loop v218 v220 k1_t16).trips), ∀ a, (k1_off259 v218 v220 k1_t16 k1_t19) a + S1x16.size a ≤ S72x256.size a) ∧
  (∀ k1_t16 : Fin (k1_t16_loop v218 v220).trips, (k1_t20_loop v218 v220 k1_t16).OK) ∧
  (∀ (k1_t16 : Fin (k1_t16_loop v218 v220).trips) (k1_t20 : Fin (k1_t20_loop v218 v220 k1_t16).trips), ∀ a, (k1_off260 v218 v220 k1_t16 k1_t20) a + S1x16.size a ≤ S72x256.size a) ∧
  (∀ (k1_t16 : Fin (k1_t16_loop v218 v220).trips) (k1_t20 : Fin (k1_t20_loop v218 v220 k1_t16).trips), ∀ a, (k1_off261 v218 v220 k1_t16 k1_t20) a + S1x16.size a ≤ S72x256.size a) ∧
  (∀ (k1_t16 : Fin (k1_t16_loop v218 v220).trips) (k1_t20 : Fin (k1_t20_loop v218 v220 k1_t16).trips), ∀ a, (k1_off262 v218 v220 k1_t16 k1_t20) a + S1x16.size a ≤ S72x256.size a) ∧
  (∀ (k1_t16 : Fin (k1_t16_loop v218 v220).trips) (k1_t20 : Fin (k1_t20_loop v218 v220 k1_t16).trips), ∀ a, (k1_off263 v218 v220 k1_t16 k1_t20) a + S1x16.size a ≤ S72x256.size a) ∧
  (∀ (k1_t16 : Fin (k1_t16_loop v218 v220).trips) (k1_t20 : Fin (k1_t20_loop v218 v220 k1_t16).trips), ∀ a, (k1_off264 v218 v220 k1_t16 k1_t20) a + S1x16.size a ≤ S72x256.size a) ∧
  (∀ (k1_t16 : Fin (k1_t16_loop v218 v220).trips) (k1_t20 : Fin (k1_t20_loop v218 v220 k1_t16).trips), ∀ a, (k1_off265 v218 v220 k1_t16 k1_t20) a + S1x16.size a ≤ S72x256.size a) ∧
  (∀ (k1_t16 : Fin (k1_t16_loop v218 v220).trips) (k1_t20 : Fin (k1_t20_loop v218 v220 k1_t16).trips), ∀ a, (k1_off266 v218 v220 k1_t16 k1_t20) a + S1x16.size a ≤ S72x256.size a) ∧
  (∀ (k1_t16 : Fin (k1_t16_loop v218 v220).trips) (k1_t20 : Fin (k1_t20_loop v218 v220 k1_t16).trips), ∀ a, (k1_off267 v218 v220 k1_t16 k1_t20) a + S1x16.size a ≤ S72x256.size a) ∧
  (∀ (k1_t16 : Fin (k1_t16_loop v218 v220).trips) (k1_t20 : Fin (k1_t20_loop v218 v220 k1_t16).trips), ∀ a, (k1_off268 v218 v220 k1_t16 k1_t20) a + S1x16.size a ≤ S72x256.size a) ∧
  (∀ (k1_t16 : Fin (k1_t16_loop v218 v220).trips) (k1_t20 : Fin (k1_t20_loop v218 v220 k1_t16).trips), ∀ a, (k1_off269 v218 v220 k1_t16 k1_t20) a + S1x16.size a ≤ S72x256.size a) ∧
  (∀ (k1_t16 : Fin (k1_t16_loop v218 v220).trips) (k1_t20 : Fin (k1_t20_loop v218 v220 k1_t16).trips), ∀ a, (k1_off270 v218 v220 k1_t16 k1_t20) a + S1x16.size a ≤ S72x256.size a) ∧
  (∀ (k1_t16 : Fin (k1_t16_loop v218 v220).trips) (k1_t20 : Fin (k1_t20_loop v218 v220 k1_t16).trips), ∀ a, (k1_off271 v218 v220 k1_t16 k1_t20) a + S1x16.size a ≤ S72x256.size a) ∧
  (∀ (k1_t16 : Fin (k1_t16_loop v218 v220).trips) (k1_t20 : Fin (k1_t20_loop v218 v220 k1_t16).trips), ∀ a, (k1_off272 v218 v220 k1_t16 k1_t20) a + S1x16.size a ≤ S72x256.size a) ∧
  (∀ (k1_t16 : Fin (k1_t16_loop v218 v220).trips) (k1_t20 : Fin (k1_t20_loop v218 v220 k1_t16).trips), ∀ a, (k1_off273 v218 v220 k1_t16 k1_t20) a + S1x16.size a ≤ S72x256.size a) ∧
  (∀ (k1_t16 : Fin (k1_t16_loop v218 v220).trips) (k1_t20 : Fin (k1_t20_loop v218 v220 k1_t16).trips), ∀ a, (k1_off274 v218 v220 k1_t16 k1_t20) a + S1x16.size a ≤ S72x256.size a) ∧
  (∀ (k1_t16 : Fin (k1_t16_loop v218 v220).trips) (k1_t20 : Fin (k1_t20_loop v218 v220 k1_t16).trips), ∀ a, (k1_off275 v218 v220 k1_t16 k1_t20) a + S1x16.size a ≤ S72x256.size a)
def k1_chk2 (i : grid1.Coords) (v218 : BitVec 32) (v220 : BitVec 32) : Prop :=
  k1_chk2_0 i v218 v220 ∧
  k1_chk2_1 i v218 v220 ∧
  k1_chk2_2 i v218 v220 ∧
  k1_chk2_3 i v218 v220 ∧
  k1_chk2_4 i v218 v220
theorem k1_off139_inb : ∀ (i : grid1.Coords) (v218 : BitVec 32) (v220 : BitVec 32) (k1_hw2 : k1_chk2 i v218 v220), ∀ (k1_h10 : k1_cond10 v218 v220 = 1#1), ∀ a, (k1_off139 i v218) a + S72x256.size a ≤ S100000x512.size a := fun i v218 v220 k1_hw2 k1_h10 => k1_hw2.1.1 k1_h10
theorem k1_t11_ok : ∀ (i : grid1.Coords) (v218 : BitVec 32) (v220 : BitVec 32) (k1_hw2 : k1_chk2 i v218 v220), (k1_t11_loop v218 v220).OK := fun i v218 v220 k1_hw2 => k1_hw2.1.2.1
theorem k1_off140_inb : ∀ (i : grid1.Coords) (v218 : BitVec 32) (v220 : BitVec 32) (k1_hw2 : k1_chk2 i v218 v220) (k1_t11 : Fin (k1_t11_loop v218 v220).trips), ∀ (k1_h11 : k1_cond11 v218 v220 k1_t11 = 1#1), ∀ a, (k1_off140 i v218 v220 k1_t11) a + S72x256.size a ≤ S100000x512.size a := fun i v218 v220 k1_hw2 k1_t11 k1_h11 => k1_hw2.1.2.2.1 k1_t11 k1_h11
theorem k1_off141_inb : ∀ (i : grid1.Coords) (v218 : BitVec 32) (v220 : BitVec 32) (k1_hw2 : k1_chk2 i v218 v220) (k1_t11 : Fin (k1_t11_loop v218 v220).trips), ∀ (k1_h11 : k1_cond11 v218 v220 k1_t11 = 1#1), ∀ (k1_h12 : k1_cond12 v218 v220 k1_t11 = 1#1), ∀ a, (k1_off141 i v218 v220 k1_t11) a + S72x256.size a ≤ S100000x512.size a := fun i v218 v220 k1_hw2 k1_t11 k1_h11 k1_h12 => k1_hw2.1.2.2.2.1 k1_t11 k1_h11 k1_h12
theorem k1_t12_ok : ∀ (i : grid1.Coords) (v218 : BitVec 32) (v220 : BitVec 32) (k1_hw2 : k1_chk2 i v218 v220) (k1_t11 : Fin (k1_t11_loop v218 v220).trips), (k1_t12_loop v218 v220 k1_t11).OK := fun i v218 v220 k1_hw2 k1_t11 => k1_hw2.1.2.2.2.2.1 k1_t11
theorem k1_off142_inb : ∀ (i : grid1.Coords) (v218 : BitVec 32) (v220 : BitVec 32) (k1_hw2 : k1_chk2 i v218 v220) (k1_t11 : Fin (k1_t11_loop v218 v220).trips) (k1_t12 : Fin (k1_t12_loop v218 v220 k1_t11).trips), ∀ a, (k1_off142 v218 v220 k1_t11 k1_t12) a + S1x16.size a ≤ S72x256.size a := fun i v218 v220 k1_hw2 k1_t11 k1_t12 => k1_hw2.1.2.2.2.2.2.1 k1_t11 k1_t12
theorem k1_off143_inb : ∀ (i : grid1.Coords) (v218 : BitVec 32) (v220 : BitVec 32) (k1_hw2 : k1_chk2 i v218 v220) (k1_t11 : Fin (k1_t11_loop v218 v220).trips) (k1_t12 : Fin (k1_t12_loop v218 v220 k1_t11).trips), ∀ a, (k1_off143 v218 v220 k1_t11 k1_t12) a + S1x16.size a ≤ S72x256.size a := fun i v218 v220 k1_hw2 k1_t11 k1_t12 => k1_hw2.1.2.2.2.2.2.2.1 k1_t11 k1_t12
theorem k1_off144_inb : ∀ (i : grid1.Coords) (v218 : BitVec 32) (v220 : BitVec 32) (k1_hw2 : k1_chk2 i v218 v220) (k1_t11 : Fin (k1_t11_loop v218 v220).trips) (k1_t12 : Fin (k1_t12_loop v218 v220 k1_t11).trips), ∀ a, (k1_off144 v218 v220 k1_t11 k1_t12) a + S1x16.size a ≤ S72x256.size a := fun i v218 v220 k1_hw2 k1_t11 k1_t12 => k1_hw2.1.2.2.2.2.2.2.2.1 k1_t11 k1_t12
theorem k1_off145_inb : ∀ (i : grid1.Coords) (v218 : BitVec 32) (v220 : BitVec 32) (k1_hw2 : k1_chk2 i v218 v220) (k1_t11 : Fin (k1_t11_loop v218 v220).trips) (k1_t12 : Fin (k1_t12_loop v218 v220 k1_t11).trips), ∀ a, (k1_off145 v218 v220 k1_t11 k1_t12) a + S1x16.size a ≤ S72x256.size a := fun i v218 v220 k1_hw2 k1_t11 k1_t12 => k1_hw2.1.2.2.2.2.2.2.2.2.1 k1_t11 k1_t12
theorem k1_off146_inb : ∀ (i : grid1.Coords) (v218 : BitVec 32) (v220 : BitVec 32) (k1_hw2 : k1_chk2 i v218 v220) (k1_t11 : Fin (k1_t11_loop v218 v220).trips) (k1_t12 : Fin (k1_t12_loop v218 v220 k1_t11).trips), ∀ a, (k1_off146 v218 v220 k1_t11 k1_t12) a + S1x16.size a ≤ S72x256.size a := fun i v218 v220 k1_hw2 k1_t11 k1_t12 => k1_hw2.1.2.2.2.2.2.2.2.2.2.1 k1_t11 k1_t12
theorem k1_off147_inb : ∀ (i : grid1.Coords) (v218 : BitVec 32) (v220 : BitVec 32) (k1_hw2 : k1_chk2 i v218 v220) (k1_t11 : Fin (k1_t11_loop v218 v220).trips) (k1_t12 : Fin (k1_t12_loop v218 v220 k1_t11).trips), ∀ a, (k1_off147 v218 v220 k1_t11 k1_t12) a + S1x16.size a ≤ S72x256.size a := fun i v218 v220 k1_hw2 k1_t11 k1_t12 => k1_hw2.1.2.2.2.2.2.2.2.2.2.2.1 k1_t11 k1_t12
theorem k1_off148_inb : ∀ (i : grid1.Coords) (v218 : BitVec 32) (v220 : BitVec 32) (k1_hw2 : k1_chk2 i v218 v220) (k1_t11 : Fin (k1_t11_loop v218 v220).trips) (k1_t12 : Fin (k1_t12_loop v218 v220 k1_t11).trips), ∀ a, (k1_off148 v218 v220 k1_t11 k1_t12) a + S1x16.size a ≤ S72x256.size a := fun i v218 v220 k1_hw2 k1_t11 k1_t12 => k1_hw2.1.2.2.2.2.2.2.2.2.2.2.2.1 k1_t11 k1_t12
theorem k1_off149_inb : ∀ (i : grid1.Coords) (v218 : BitVec 32) (v220 : BitVec 32) (k1_hw2 : k1_chk2 i v218 v220) (k1_t11 : Fin (k1_t11_loop v218 v220).trips) (k1_t12 : Fin (k1_t12_loop v218 v220 k1_t11).trips), ∀ a, (k1_off149 v218 v220 k1_t11 k1_t12) a + S1x16.size a ≤ S72x256.size a := fun i v218 v220 k1_hw2 k1_t11 k1_t12 => k1_hw2.1.2.2.2.2.2.2.2.2.2.2.2.2.1 k1_t11 k1_t12
theorem k1_off150_inb : ∀ (i : grid1.Coords) (v218 : BitVec 32) (v220 : BitVec 32) (k1_hw2 : k1_chk2 i v218 v220) (k1_t11 : Fin (k1_t11_loop v218 v220).trips) (k1_t12 : Fin (k1_t12_loop v218 v220 k1_t11).trips), ∀ a, (k1_off150 v218 v220 k1_t11 k1_t12) a + S1x16.size a ≤ S72x256.size a := fun i v218 v220 k1_hw2 k1_t11 k1_t12 => k1_hw2.1.2.2.2.2.2.2.2.2.2.2.2.2.2.1 k1_t11 k1_t12
theorem k1_off151_inb : ∀ (i : grid1.Coords) (v218 : BitVec 32) (v220 : BitVec 32) (k1_hw2 : k1_chk2 i v218 v220) (k1_t11 : Fin (k1_t11_loop v218 v220).trips) (k1_t12 : Fin (k1_t12_loop v218 v220 k1_t11).trips), ∀ a, (k1_off151 v218 v220 k1_t11 k1_t12) a + S1x16.size a ≤ S72x256.size a := fun i v218 v220 k1_hw2 k1_t11 k1_t12 => k1_hw2.1.2.2.2.2.2.2.2.2.2.2.2.2.2.2.1 k1_t11 k1_t12
theorem k1_off152_inb : ∀ (i : grid1.Coords) (v218 : BitVec 32) (v220 : BitVec 32) (k1_hw2 : k1_chk2 i v218 v220) (k1_t11 : Fin (k1_t11_loop v218 v220).trips) (k1_t12 : Fin (k1_t12_loop v218 v220 k1_t11).trips), ∀ a, (k1_off152 v218 v220 k1_t11 k1_t12) a + S1x16.size a ≤ S72x256.size a := fun i v218 v220 k1_hw2 k1_t11 k1_t12 => k1_hw2.1.2.2.2.2.2.2.2.2.2.2.2.2.2.2.2.1 k1_t11 k1_t12
theorem k1_off153_inb : ∀ (i : grid1.Coords) (v218 : BitVec 32) (v220 : BitVec 32) (k1_hw2 : k1_chk2 i v218 v220) (k1_t11 : Fin (k1_t11_loop v218 v220).trips) (k1_t12 : Fin (k1_t12_loop v218 v220 k1_t11).trips), ∀ a, (k1_off153 v218 v220 k1_t11 k1_t12) a + S1x16.size a ≤ S72x256.size a := fun i v218 v220 k1_hw2 k1_t11 k1_t12 => k1_hw2.1.2.2.2.2.2.2.2.2.2.2.2.2.2.2.2.2.1 k1_t11 k1_t12
theorem k1_off154_inb : ∀ (i : grid1.Coords) (v218 : BitVec 32) (v220 : BitVec 32) (k1_hw2 : k1_chk2 i v218 v220) (k1_t11 : Fin (k1_t11_loop v218 v220).trips) (k1_t12 : Fin (k1_t12_loop v218 v220 k1_t11).trips), ∀ a, (k1_off154 v218 v220 k1_t11 k1_t12) a + S1x16.size a ≤ S72x256.size a := fun i v218 v220 k1_hw2 k1_t11 k1_t12 => k1_hw2.1.2.2.2.2.2.2.2.2.2.2.2.2.2.2.2.2.2.1 k1_t11 k1_t12
theorem k1_off155_inb : ∀ (i : grid1.Coords) (v218 : BitVec 32) (v220 : BitVec 32) (k1_hw2 : k1_chk2 i v218 v220) (k1_t11 : Fin (k1_t11_loop v218 v220).trips) (k1_t12 : Fin (k1_t12_loop v218 v220 k1_t11).trips), ∀ a, (k1_off155 v218 v220 k1_t11 k1_t12) a + S1x16.size a ≤ S72x256.size a := fun i v218 v220 k1_hw2 k1_t11 k1_t12 => k1_hw2.1.2.2.2.2.2.2.2.2.2.2.2.2.2.2.2.2.2.2.1 k1_t11 k1_t12
theorem k1_off156_inb : ∀ (i : grid1.Coords) (v218 : BitVec 32) (v220 : BitVec 32) (k1_hw2 : k1_chk2 i v218 v220) (k1_t11 : Fin (k1_t11_loop v218 v220).trips) (k1_t12 : Fin (k1_t12_loop v218 v220 k1_t11).trips), ∀ a, (k1_off156 v218 v220 k1_t11 k1_t12) a + S1x16.size a ≤ S72x256.size a := fun i v218 v220 k1_hw2 k1_t11 k1_t12 => k1_hw2.1.2.2.2.2.2.2.2.2.2.2.2.2.2.2.2.2.2.2.2.1 k1_t11 k1_t12
theorem k1_off157_inb : ∀ (i : grid1.Coords) (v218 : BitVec 32) (v220 : BitVec 32) (k1_hw2 : k1_chk2 i v218 v220) (k1_t11 : Fin (k1_t11_loop v218 v220).trips) (k1_t12 : Fin (k1_t12_loop v218 v220 k1_t11).trips), ∀ a, (k1_off157 v218 v220 k1_t11 k1_t12) a + S1x16.size a ≤ S72x256.size a := fun i v218 v220 k1_hw2 k1_t11 k1_t12 => k1_hw2.1.2.2.2.2.2.2.2.2.2.2.2.2.2.2.2.2.2.2.2.2.1 k1_t11 k1_t12
theorem k1_t13_ok : ∀ (i : grid1.Coords) (v218 : BitVec 32) (v220 : BitVec 32) (k1_hw2 : k1_chk2 i v218 v220) (k1_t11 : Fin (k1_t11_loop v218 v220).trips), (k1_t13_loop v218 v220 k1_t11).OK := fun i v218 v220 k1_hw2 k1_t11 => k1_hw2.1.2.2.2.2.2.2.2.2.2.2.2.2.2.2.2.2.2.2.2.2.2.1 k1_t11
theorem k1_off158_inb : ∀ (i : grid1.Coords) (v218 : BitVec 32) (v220 : BitVec 32) (k1_hw2 : k1_chk2 i v218 v220) (k1_t11 : Fin (k1_t11_loop v218 v220).trips) (k1_t13 : Fin (k1_t13_loop v218 v220 k1_t11).trips), ∀ a, (k1_off158 v218 v220 k1_t11 k1_t13) a + S1x16.size a ≤ S72x256.size a := fun i v218 v220 k1_hw2 k1_t11 k1_t13 => k1_hw2.1.2.2.2.2.2.2.2.2.2.2.2.2.2.2.2.2.2.2.2.2.2.2.1 k1_t11 k1_t13
theorem k1_off159_inb : ∀ (i : grid1.Coords) (v218 : BitVec 32) (v220 : BitVec 32) (k1_hw2 : k1_chk2 i v218 v220) (k1_t11 : Fin (k1_t11_loop v218 v220).trips) (k1_t13 : Fin (k1_t13_loop v218 v220 k1_t11).trips), ∀ a, (k1_off159 v218 v220 k1_t11 k1_t13) a + S1x16.size a ≤ S72x256.size a := fun i v218 v220 k1_hw2 k1_t11 k1_t13 => k1_hw2.1.2.2.2.2.2.2.2.2.2.2.2.2.2.2.2.2.2.2.2.2.2.2.2.1 k1_t11 k1_t13
theorem k1_off160_inb : ∀ (i : grid1.Coords) (v218 : BitVec 32) (v220 : BitVec 32) (k1_hw2 : k1_chk2 i v218 v220) (k1_t11 : Fin (k1_t11_loop v218 v220).trips) (k1_t13 : Fin (k1_t13_loop v218 v220 k1_t11).trips), ∀ a, (k1_off160 v218 v220 k1_t11 k1_t13) a + S1x16.size a ≤ S72x256.size a := fun i v218 v220 k1_hw2 k1_t11 k1_t13 => k1_hw2.1.2.2.2.2.2.2.2.2.2.2.2.2.2.2.2.2.2.2.2.2.2.2.2.2.1 k1_t11 k1_t13
theorem k1_off161_inb : ∀ (i : grid1.Coords) (v218 : BitVec 32) (v220 : BitVec 32) (k1_hw2 : k1_chk2 i v218 v220) (k1_t11 : Fin (k1_t11_loop v218 v220).trips) (k1_t13 : Fin (k1_t13_loop v218 v220 k1_t11).trips), ∀ a, (k1_off161 v218 v220 k1_t11 k1_t13) a + S1x16.size a ≤ S72x256.size a := fun i v218 v220 k1_hw2 k1_t11 k1_t13 => k1_hw2.1.2.2.2.2.2.2.2.2.2.2.2.2.2.2.2.2.2.2.2.2.2.2.2.2.2.1 k1_t11 k1_t13
theorem k1_off162_inb : ∀ (i : grid1.Coords) (v218 : BitVec 32) (v220 : BitVec 32) (k1_hw2 : k1_chk2 i v218 v220) (k1_t11 : Fin (k1_t11_loop v218 v220).trips) (k1_t13 : Fin (k1_t13_loop v218 v220 k1_t11).trips), ∀ a, (k1_off162 v218 v220 k1_t11 k1_t13) a + S1x16.size a ≤ S72x256.size a := fun i v218 v220 k1_hw2 k1_t11 k1_t13 => k1_hw2.1.2.2.2.2.2.2.2.2.2.2.2.2.2.2.2.2.2.2.2.2.2.2.2.2.2.2.1 k1_t11 k1_t13
theorem k1_off163_inb : ∀ (i : grid1.Coords) (v218 : BitVec 32) (v220 : BitVec 32) (k1_hw2 : k1_chk2 i v218 v220) (k1_t11 : Fin (k1_t11_loop v218 v220).trips) (k1_t13 : Fin (k1_t13_loop v218 v220 k1_t11).trips), ∀ a, (k1_off163 v218 v220 k1_t11 k1_t13) a + S1x16.size a ≤ S72x256.size a := fun i v218 v220 k1_hw2 k1_t11 k1_t13 => k1_hw2.1.2.2.2.2.2.2.2.2.2.2.2.2.2.2.2.2.2.2.2.2.2.2.2.2.2.2.2.1 k1_t11 k1_t13
theorem k1_off164_inb : ∀ (i : grid1.Coords) (v218 : BitVec 32) (v220 : BitVec 32) (k1_hw2 : k1_chk2 i v218 v220) (k1_t11 : Fin (k1_t11_loop v218 v220).trips) (k1_t13 : Fin (k1_t13_loop v218 v220 k1_t11).trips), ∀ a, (k1_off164 v218 v220 k1_t11 k1_t13) a + S1x16.size a ≤ S72x256.size a := fun i v218 v220 k1_hw2 k1_t11 k1_t13 => k1_hw2.1.2.2.2.2.2.2.2.2.2.2.2.2.2.2.2.2.2.2.2.2.2.2.2.2.2.2.2.2.1 k1_t11 k1_t13
theorem k1_off165_inb : ∀ (i : grid1.Coords) (v218 : BitVec 32) (v220 : BitVec 32) (k1_hw2 : k1_chk2 i v218 v220) (k1_t11 : Fin (k1_t11_loop v218 v220).trips) (k1_t13 : Fin (k1_t13_loop v218 v220 k1_t11).trips), ∀ a, (k1_off165 v218 v220 k1_t11 k1_t13) a + S1x16.size a ≤ S72x256.size a := fun i v218 v220 k1_hw2 k1_t11 k1_t13 => k1_hw2.1.2.2.2.2.2.2.2.2.2.2.2.2.2.2.2.2.2.2.2.2.2.2.2.2.2.2.2.2.2.1 k1_t11 k1_t13
theorem k1_off166_inb : ∀ (i : grid1.Coords) (v218 : BitVec 32) (v220 : BitVec 32) (k1_hw2 : k1_chk2 i v218 v220) (k1_t11 : Fin (k1_t11_loop v218 v220).trips) (k1_t13 : Fin (k1_t13_loop v218 v220 k1_t11).trips), ∀ a, (k1_off166 v218 v220 k1_t11 k1_t13) a + S1x16.size a ≤ S72x256.size a := fun i v218 v220 k1_hw2 k1_t11 k1_t13 => k1_hw2.1.2.2.2.2.2.2.2.2.2.2.2.2.2.2.2.2.2.2.2.2.2.2.2.2.2.2.2.2.2.2.1 k1_t11 k1_t13
theorem k1_off167_inb : ∀ (i : grid1.Coords) (v218 : BitVec 32) (v220 : BitVec 32) (k1_hw2 : k1_chk2 i v218 v220) (k1_t11 : Fin (k1_t11_loop v218 v220).trips) (k1_t13 : Fin (k1_t13_loop v218 v220 k1_t11).trips), ∀ a, (k1_off167 v218 v220 k1_t11 k1_t13) a + S1x16.size a ≤ S72x256.size a := fun i v218 v220 k1_hw2 k1_t11 k1_t13 => k1_hw2.1.2.2.2.2.2.2.2.2.2.2.2.2.2.2.2.2.2.2.2.2.2.2.2.2.2.2.2.2.2.2.2 k1_t11 k1_t13
theorem k1_off168_inb : ∀ (i : grid1.Coords) (v218 : BitVec 32) (v220 : BitVec 32) (k1_hw2 : k1_chk2 i v218 v220) (k1_t11 : Fin (k1_t11_loop v218 v220).trips) (k1_t13 : Fin (k1_t13_loop v218 v220 k1_t11).trips), ∀ a, (k1_off168 v218 v220 k1_t11 k1_t13) a + S1x16.size a ≤ S72x256.size a := fun i v218 v220 k1_hw2 k1_t11 k1_t13 => k1_hw2.2.1.1 k1_t11 k1_t13
theorem k1_off169_inb : ∀ (i : grid1.Coords) (v218 : BitVec 32) (v220 : BitVec 32) (k1_hw2 : k1_chk2 i v218 v220) (k1_t11 : Fin (k1_t11_loop v218 v220).trips) (k1_t13 : Fin (k1_t13_loop v218 v220 k1_t11).trips), ∀ a, (k1_off169 v218 v220 k1_t11 k1_t13) a + S1x16.size a ≤ S72x256.size a := fun i v218 v220 k1_hw2 k1_t11 k1_t13 => k1_hw2.2.1.2.1 k1_t11 k1_t13
theorem k1_off170_inb : ∀ (i : grid1.Coords) (v218 : BitVec 32) (v220 : BitVec 32) (k1_hw2 : k1_chk2 i v218 v220) (k1_t11 : Fin (k1_t11_loop v218 v220).trips) (k1_t13 : Fin (k1_t13_loop v218 v220 k1_t11).trips), ∀ a, (k1_off170 v218 v220 k1_t11 k1_t13) a + S1x16.size a ≤ S72x256.size a := fun i v218 v220 k1_hw2 k1_t11 k1_t13 => k1_hw2.2.1.2.2.1 k1_t11 k1_t13
theorem k1_off171_inb : ∀ (i : grid1.Coords) (v218 : BitVec 32) (v220 : BitVec 32) (k1_hw2 : k1_chk2 i v218 v220) (k1_t11 : Fin (k1_t11_loop v218 v220).trips) (k1_t13 : Fin (k1_t13_loop v218 v220 k1_t11).trips), ∀ a, (k1_off171 v218 v220 k1_t11 k1_t13) a + S1x16.size a ≤ S72x256.size a := fun i v218 v220 k1_hw2 k1_t11 k1_t13 => k1_hw2.2.1.2.2.2.1 k1_t11 k1_t13
theorem k1_off172_inb : ∀ (i : grid1.Coords) (v218 : BitVec 32) (v220 : BitVec 32) (k1_hw2 : k1_chk2 i v218 v220) (k1_t11 : Fin (k1_t11_loop v218 v220).trips) (k1_t13 : Fin (k1_t13_loop v218 v220 k1_t11).trips), ∀ a, (k1_off172 v218 v220 k1_t11 k1_t13) a + S1x16.size a ≤ S72x256.size a := fun i v218 v220 k1_hw2 k1_t11 k1_t13 => k1_hw2.2.1.2.2.2.2.1 k1_t11 k1_t13
theorem k1_off173_inb : ∀ (i : grid1.Coords) (v218 : BitVec 32) (v220 : BitVec 32) (k1_hw2 : k1_chk2 i v218 v220) (k1_t11 : Fin (k1_t11_loop v218 v220).trips) (k1_t13 : Fin (k1_t13_loop v218 v220 k1_t11).trips), ∀ a, (k1_off173 v218 v220 k1_t11 k1_t13) a + S1x16.size a ≤ S72x256.size a := fun i v218 v220 k1_hw2 k1_t11 k1_t13 => k1_hw2.2.1.2.2.2.2.2.1 k1_t11 k1_t13
theorem k1_off174_inb : ∀ (i : grid1.Coords) (v218 : BitVec 32) (v220 : BitVec 32) (k1_hw2 : k1_chk2 i v218 v220) (k1_t11 : Fin (k1_t11_loop v218 v220).trips), ∀ (k1_h13 : k1_cond13 v218 v220 k1_t11 = 1#1), ∀ a, (k1_off174 i v218 v220 k1_t11) a + S72x256.size a ≤ S100000x512.size a := fun i v218 v220 k1_hw2 k1_t11 k1_h13 => k1_hw2.2.1.2.2.2.2.2.2.1 k1_t11 k1_h13
theorem k1_off175_inb : ∀ (i : grid1.Coords) (v218 : BitVec 32) (v220 : BitVec 32) (k1_hw2 : k1_chk2 i v218 v220) (k1_t11 : Fin (k1_t11_loop v218 v220).trips), ∀ (k1_h13 : k1_cond13 v218 v220 k1_t11 = 1#1), ∀ (k1_h14 : k1_cond14 v218 v220 k1_t11 = 1#1), ∀ a, (k1_off175 i v218 v220 k1_t11) a + S72x256.size a ≤ S100000x512.size a := fun i v218 v220 k1_hw2 k1_t11 k1_h13 k1_h14 => k1_hw2.2.1.2.2.2.2.2.2.2.1 k1_t11 k1_h13 k1_h14
theorem k1_t14_ok : ∀ (i : grid1.Coords) (v218 : BitVec 32) (v220 : BitVec 32) (k1_hw2 : k1_chk2 i v218 v220) (k1_t11 : Fin (k1_t11_loop v218 v220).trips), (k1_t14_loop v218 v220 k1_t11).OK := fun i v218 v220 k1_hw2 k1_t11 => k1_hw2.2.1.2.2.2.2.2.2.2.2.1 k1_t11
theorem k1_off176_inb : ∀ (i : grid1.Coords) (v218 : BitVec 32) (v220 : BitVec 32) (k1_hw2 : k1_chk2 i v218 v220) (k1_t11 : Fin (k1_t11_loop v218 v220).trips) (k1_t14 : Fin (k1_t14_loop v218 v220 k1_t11).trips), ∀ a, (k1_off176 v218 v220 k1_t11 k1_t14) a + S1x16.size a ≤ S72x256.size a := fun i v218 v220 k1_hw2 k1_t11 k1_t14 => k1_hw2.2.1.2.2.2.2.2.2.2.2.2.1 k1_t11 k1_t14
theorem k1_off177_inb : ∀ (i : grid1.Coords) (v218 : BitVec 32) (v220 : BitVec 32) (k1_hw2 : k1_chk2 i v218 v220) (k1_t11 : Fin (k1_t11_loop v218 v220).trips) (k1_t14 : Fin (k1_t14_loop v218 v220 k1_t11).trips), ∀ a, (k1_off177 v218 v220 k1_t11 k1_t14) a + S1x16.size a ≤ S72x256.size a := fun i v218 v220 k1_hw2 k1_t11 k1_t14 => k1_hw2.2.1.2.2.2.2.2.2.2.2.2.2.1 k1_t11 k1_t14
theorem k1_off178_inb : ∀ (i : grid1.Coords) (v218 : BitVec 32) (v220 : BitVec 32) (k1_hw2 : k1_chk2 i v218 v220) (k1_t11 : Fin (k1_t11_loop v218 v220).trips) (k1_t14 : Fin (k1_t14_loop v218 v220 k1_t11).trips), ∀ a, (k1_off178 v218 v220 k1_t11 k1_t14) a + S1x16.size a ≤ S72x256.size a := fun i v218 v220 k1_hw2 k1_t11 k1_t14 => k1_hw2.2.1.2.2.2.2.2.2.2.2.2.2.2.1 k1_t11 k1_t14
theorem k1_off179_inb : ∀ (i : grid1.Coords) (v218 : BitVec 32) (v220 : BitVec 32) (k1_hw2 : k1_chk2 i v218 v220) (k1_t11 : Fin (k1_t11_loop v218 v220).trips) (k1_t14 : Fin (k1_t14_loop v218 v220 k1_t11).trips), ∀ a, (k1_off179 v218 v220 k1_t11 k1_t14) a + S1x16.size a ≤ S72x256.size a := fun i v218 v220 k1_hw2 k1_t11 k1_t14 => k1_hw2.2.1.2.2.2.2.2.2.2.2.2.2.2.2.1 k1_t11 k1_t14
theorem k1_off180_inb : ∀ (i : grid1.Coords) (v218 : BitVec 32) (v220 : BitVec 32) (k1_hw2 : k1_chk2 i v218 v220) (k1_t11 : Fin (k1_t11_loop v218 v220).trips) (k1_t14 : Fin (k1_t14_loop v218 v220 k1_t11).trips), ∀ a, (k1_off180 v218 v220 k1_t11 k1_t14) a + S1x16.size a ≤ S72x256.size a := fun i v218 v220 k1_hw2 k1_t11 k1_t14 => k1_hw2.2.1.2.2.2.2.2.2.2.2.2.2.2.2.2.1 k1_t11 k1_t14
theorem k1_off181_inb : ∀ (i : grid1.Coords) (v218 : BitVec 32) (v220 : BitVec 32) (k1_hw2 : k1_chk2 i v218 v220) (k1_t11 : Fin (k1_t11_loop v218 v220).trips) (k1_t14 : Fin (k1_t14_loop v218 v220 k1_t11).trips), ∀ a, (k1_off181 v218 v220 k1_t11 k1_t14) a + S1x16.size a ≤ S72x256.size a := fun i v218 v220 k1_hw2 k1_t11 k1_t14 => k1_hw2.2.1.2.2.2.2.2.2.2.2.2.2.2.2.2.2.1 k1_t11 k1_t14
theorem k1_off182_inb : ∀ (i : grid1.Coords) (v218 : BitVec 32) (v220 : BitVec 32) (k1_hw2 : k1_chk2 i v218 v220) (k1_t11 : Fin (k1_t11_loop v218 v220).trips) (k1_t14 : Fin (k1_t14_loop v218 v220 k1_t11).trips), ∀ a, (k1_off182 v218 v220 k1_t11 k1_t14) a + S1x16.size a ≤ S72x256.size a := fun i v218 v220 k1_hw2 k1_t11 k1_t14 => k1_hw2.2.1.2.2.2.2.2.2.2.2.2.2.2.2.2.2.2.1 k1_t11 k1_t14
theorem k1_off183_inb : ∀ (i : grid1.Coords) (v218 : BitVec 32) (v220 : BitVec 32) (k1_hw2 : k1_chk2 i v218 v220) (k1_t11 : Fin (k1_t11_loop v218 v220).trips) (k1_t14 : Fin (k1_t14_loop v218 v220 k1_t11).trips), ∀ a, (k1_off183 v218 v220 k1_t11 k1_t14) a + S1x16.size a ≤ S72x256.size a := fun i v218 v220 k1_hw2 k1_t11 k1_t14 => k1_hw2.2.1.2.2.2.2.2.2.2.2.2.2.2.2.2.2.2.2.1 k1_t11 k1_t14
theorem k1_off184_inb : ∀ (i : grid1.Coords) (v218 : BitVec 32) (v220 : BitVec 32) (k1_hw2 : k1_chk2 i v218 v220) (k1_t11 : Fin (k1_t11_loop v218 v220).trips) (k1_t14 : Fin (k1_t14_loop v218 v220 k1_t11).trips), ∀ a, (k1_off184 v218 v220 k1_t11 k1_t14) a + S1x16.size a ≤ S72x256.size a := fun i v218 v220 k1_hw2 k1_t11 k1_t14 => k1_hw2.2.1.2.2.2.2.2.2.2.2.2.2.2.2.2.2.2.2.2.1 k1_t11 k1_t14
theorem k1_off185_inb : ∀ (i : grid1.Coords) (v218 : BitVec 32) (v220 : BitVec 32) (k1_hw2 : k1_chk2 i v218 v220) (k1_t11 : Fin (k1_t11_loop v218 v220).trips) (k1_t14 : Fin (k1_t14_loop v218 v220 k1_t11).trips), ∀ a, (k1_off185 v218 v220 k1_t11 k1_t14) a + S1x16.size a ≤ S72x256.size a := fun i v218 v220 k1_hw2 k1_t11 k1_t14 => k1_hw2.2.1.2.2.2.2.2.2.2.2.2.2.2.2.2.2.2.2.2.2.1 k1_t11 k1_t14
theorem k1_off186_inb : ∀ (i : grid1.Coords) (v218 : BitVec 32) (v220 : BitVec 32) (k1_hw2 : k1_chk2 i v218 v220) (k1_t11 : Fin (k1_t11_loop v218 v220).trips) (k1_t14 : Fin (k1_t14_loop v218 v220 k1_t11).trips), ∀ a, (k1_off186 v218 v220 k1_t11 k1_t14) a + S1x16.size a ≤ S72x256.size a := fun i v218 v220 k1_hw2 k1_t11 k1_t14 => k1_hw2.2.1.2.2.2.2.2.2.2.2.2.2.2.2.2.2.2.2.2.2.2.1 k1_t11 k1_t14
theorem k1_off187_inb : ∀ (i : grid1.Coords) (v218 : BitVec 32) (v220 : BitVec 32) (k1_hw2 : k1_chk2 i v218 v220) (k1_t11 : Fin (k1_t11_loop v218 v220).trips) (k1_t14 : Fin (k1_t14_loop v218 v220 k1_t11).trips), ∀ a, (k1_off187 v218 v220 k1_t11 k1_t14) a + S1x16.size a ≤ S72x256.size a := fun i v218 v220 k1_hw2 k1_t11 k1_t14 => k1_hw2.2.1.2.2.2.2.2.2.2.2.2.2.2.2.2.2.2.2.2.2.2.2.1 k1_t11 k1_t14
theorem k1_off188_inb : ∀ (i : grid1.Coords) (v218 : BitVec 32) (v220 : BitVec 32) (k1_hw2 : k1_chk2 i v218 v220) (k1_t11 : Fin (k1_t11_loop v218 v220).trips) (k1_t14 : Fin (k1_t14_loop v218 v220 k1_t11).trips), ∀ a, (k1_off188 v218 v220 k1_t11 k1_t14) a + S1x16.size a ≤ S72x256.size a := fun i v218 v220 k1_hw2 k1_t11 k1_t14 => k1_hw2.2.1.2.2.2.2.2.2.2.2.2.2.2.2.2.2.2.2.2.2.2.2.2.1 k1_t11 k1_t14
theorem k1_off189_inb : ∀ (i : grid1.Coords) (v218 : BitVec 32) (v220 : BitVec 32) (k1_hw2 : k1_chk2 i v218 v220) (k1_t11 : Fin (k1_t11_loop v218 v220).trips) (k1_t14 : Fin (k1_t14_loop v218 v220 k1_t11).trips), ∀ a, (k1_off189 v218 v220 k1_t11 k1_t14) a + S1x16.size a ≤ S72x256.size a := fun i v218 v220 k1_hw2 k1_t11 k1_t14 => k1_hw2.2.1.2.2.2.2.2.2.2.2.2.2.2.2.2.2.2.2.2.2.2.2.2.2.1 k1_t11 k1_t14
theorem k1_off190_inb : ∀ (i : grid1.Coords) (v218 : BitVec 32) (v220 : BitVec 32) (k1_hw2 : k1_chk2 i v218 v220) (k1_t11 : Fin (k1_t11_loop v218 v220).trips) (k1_t14 : Fin (k1_t14_loop v218 v220 k1_t11).trips), ∀ a, (k1_off190 v218 v220 k1_t11 k1_t14) a + S1x16.size a ≤ S72x256.size a := fun i v218 v220 k1_hw2 k1_t11 k1_t14 => k1_hw2.2.1.2.2.2.2.2.2.2.2.2.2.2.2.2.2.2.2.2.2.2.2.2.2.2.1 k1_t11 k1_t14
theorem k1_off191_inb : ∀ (i : grid1.Coords) (v218 : BitVec 32) (v220 : BitVec 32) (k1_hw2 : k1_chk2 i v218 v220) (k1_t11 : Fin (k1_t11_loop v218 v220).trips) (k1_t14 : Fin (k1_t14_loop v218 v220 k1_t11).trips), ∀ a, (k1_off191 v218 v220 k1_t11 k1_t14) a + S1x16.size a ≤ S72x256.size a := fun i v218 v220 k1_hw2 k1_t11 k1_t14 => k1_hw2.2.1.2.2.2.2.2.2.2.2.2.2.2.2.2.2.2.2.2.2.2.2.2.2.2.2.1 k1_t11 k1_t14
theorem k1_t15_ok : ∀ (i : grid1.Coords) (v218 : BitVec 32) (v220 : BitVec 32) (k1_hw2 : k1_chk2 i v218 v220) (k1_t11 : Fin (k1_t11_loop v218 v220).trips), (k1_t15_loop v218 v220 k1_t11).OK := fun i v218 v220 k1_hw2 k1_t11 => k1_hw2.2.1.2.2.2.2.2.2.2.2.2.2.2.2.2.2.2.2.2.2.2.2.2.2.2.2.2.1 k1_t11
theorem k1_off192_inb : ∀ (i : grid1.Coords) (v218 : BitVec 32) (v220 : BitVec 32) (k1_hw2 : k1_chk2 i v218 v220) (k1_t11 : Fin (k1_t11_loop v218 v220).trips) (k1_t15 : Fin (k1_t15_loop v218 v220 k1_t11).trips), ∀ a, (k1_off192 v218 v220 k1_t11 k1_t15) a + S1x16.size a ≤ S72x256.size a := fun i v218 v220 k1_hw2 k1_t11 k1_t15 => k1_hw2.2.1.2.2.2.2.2.2.2.2.2.2.2.2.2.2.2.2.2.2.2.2.2.2.2.2.2.2.1 k1_t11 k1_t15
theorem k1_off193_inb : ∀ (i : grid1.Coords) (v218 : BitVec 32) (v220 : BitVec 32) (k1_hw2 : k1_chk2 i v218 v220) (k1_t11 : Fin (k1_t11_loop v218 v220).trips) (k1_t15 : Fin (k1_t15_loop v218 v220 k1_t11).trips), ∀ a, (k1_off193 v218 v220 k1_t11 k1_t15) a + S1x16.size a ≤ S72x256.size a := fun i v218 v220 k1_hw2 k1_t11 k1_t15 => k1_hw2.2.1.2.2.2.2.2.2.2.2.2.2.2.2.2.2.2.2.2.2.2.2.2.2.2.2.2.2.2.1 k1_t11 k1_t15
theorem k1_off194_inb : ∀ (i : grid1.Coords) (v218 : BitVec 32) (v220 : BitVec 32) (k1_hw2 : k1_chk2 i v218 v220) (k1_t11 : Fin (k1_t11_loop v218 v220).trips) (k1_t15 : Fin (k1_t15_loop v218 v220 k1_t11).trips), ∀ a, (k1_off194 v218 v220 k1_t11 k1_t15) a + S1x16.size a ≤ S72x256.size a := fun i v218 v220 k1_hw2 k1_t11 k1_t15 => k1_hw2.2.1.2.2.2.2.2.2.2.2.2.2.2.2.2.2.2.2.2.2.2.2.2.2.2.2.2.2.2.2.1 k1_t11 k1_t15
theorem k1_off195_inb : ∀ (i : grid1.Coords) (v218 : BitVec 32) (v220 : BitVec 32) (k1_hw2 : k1_chk2 i v218 v220) (k1_t11 : Fin (k1_t11_loop v218 v220).trips) (k1_t15 : Fin (k1_t15_loop v218 v220 k1_t11).trips), ∀ a, (k1_off195 v218 v220 k1_t11 k1_t15) a + S1x16.size a ≤ S72x256.size a := fun i v218 v220 k1_hw2 k1_t11 k1_t15 => k1_hw2.2.1.2.2.2.2.2.2.2.2.2.2.2.2.2.2.2.2.2.2.2.2.2.2.2.2.2.2.2.2.2.1 k1_t11 k1_t15
theorem k1_off196_inb : ∀ (i : grid1.Coords) (v218 : BitVec 32) (v220 : BitVec 32) (k1_hw2 : k1_chk2 i v218 v220) (k1_t11 : Fin (k1_t11_loop v218 v220).trips) (k1_t15 : Fin (k1_t15_loop v218 v220 k1_t11).trips), ∀ a, (k1_off196 v218 v220 k1_t11 k1_t15) a + S1x16.size a ≤ S72x256.size a := fun i v218 v220 k1_hw2 k1_t11 k1_t15 => k1_hw2.2.1.2.2.2.2.2.2.2.2.2.2.2.2.2.2.2.2.2.2.2.2.2.2.2.2.2.2.2.2.2.2.1 k1_t11 k1_t15
theorem k1_off197_inb : ∀ (i : grid1.Coords) (v218 : BitVec 32) (v220 : BitVec 32) (k1_hw2 : k1_chk2 i v218 v220) (k1_t11 : Fin (k1_t11_loop v218 v220).trips) (k1_t15 : Fin (k1_t15_loop v218 v220 k1_t11).trips), ∀ a, (k1_off197 v218 v220 k1_t11 k1_t15) a + S1x16.size a ≤ S72x256.size a := fun i v218 v220 k1_hw2 k1_t11 k1_t15 => k1_hw2.2.1.2.2.2.2.2.2.2.2.2.2.2.2.2.2.2.2.2.2.2.2.2.2.2.2.2.2.2.2.2.2.2 k1_t11 k1_t15
theorem k1_off198_inb : ∀ (i : grid1.Coords) (v218 : BitVec 32) (v220 : BitVec 32) (k1_hw2 : k1_chk2 i v218 v220) (k1_t11 : Fin (k1_t11_loop v218 v220).trips) (k1_t15 : Fin (k1_t15_loop v218 v220 k1_t11).trips), ∀ a, (k1_off198 v218 v220 k1_t11 k1_t15) a + S1x16.size a ≤ S72x256.size a := fun i v218 v220 k1_hw2 k1_t11 k1_t15 => k1_hw2.2.2.1.1 k1_t11 k1_t15
theorem k1_off199_inb : ∀ (i : grid1.Coords) (v218 : BitVec 32) (v220 : BitVec 32) (k1_hw2 : k1_chk2 i v218 v220) (k1_t11 : Fin (k1_t11_loop v218 v220).trips) (k1_t15 : Fin (k1_t15_loop v218 v220 k1_t11).trips), ∀ a, (k1_off199 v218 v220 k1_t11 k1_t15) a + S1x16.size a ≤ S72x256.size a := fun i v218 v220 k1_hw2 k1_t11 k1_t15 => k1_hw2.2.2.1.2.1 k1_t11 k1_t15
theorem k1_off200_inb : ∀ (i : grid1.Coords) (v218 : BitVec 32) (v220 : BitVec 32) (k1_hw2 : k1_chk2 i v218 v220) (k1_t11 : Fin (k1_t11_loop v218 v220).trips) (k1_t15 : Fin (k1_t15_loop v218 v220 k1_t11).trips), ∀ a, (k1_off200 v218 v220 k1_t11 k1_t15) a + S1x16.size a ≤ S72x256.size a := fun i v218 v220 k1_hw2 k1_t11 k1_t15 => k1_hw2.2.2.1.2.2.1 k1_t11 k1_t15
theorem k1_off201_inb : ∀ (i : grid1.Coords) (v218 : BitVec 32) (v220 : BitVec 32) (k1_hw2 : k1_chk2 i v218 v220) (k1_t11 : Fin (k1_t11_loop v218 v220).trips) (k1_t15 : Fin (k1_t15_loop v218 v220 k1_t11).trips), ∀ a, (k1_off201 v218 v220 k1_t11 k1_t15) a + S1x16.size a ≤ S72x256.size a := fun i v218 v220 k1_hw2 k1_t11 k1_t15 => k1_hw2.2.2.1.2.2.2.1 k1_t11 k1_t15
theorem k1_off202_inb : ∀ (i : grid1.Coords) (v218 : BitVec 32) (v220 : BitVec 32) (k1_hw2 : k1_chk2 i v218 v220) (k1_t11 : Fin (k1_t11_loop v218 v220).trips) (k1_t15 : Fin (k1_t15_loop v218 v220 k1_t11).trips), ∀ a, (k1_off202 v218 v220 k1_t11 k1_t15) a + S1x16.size a ≤ S72x256.size a := fun i v218 v220 k1_hw2 k1_t11 k1_t15 => k1_hw2.2.2.1.2.2.2.2.1 k1_t11 k1_t15
theorem k1_off203_inb : ∀ (i : grid1.Coords) (v218 : BitVec 32) (v220 : BitVec 32) (k1_hw2 : k1_chk2 i v218 v220) (k1_t11 : Fin (k1_t11_loop v218 v220).trips) (k1_t15 : Fin (k1_t15_loop v218 v220 k1_t11).trips), ∀ a, (k1_off203 v218 v220 k1_t11 k1_t15) a + S1x16.size a ≤ S72x256.size a := fun i v218 v220 k1_hw2 k1_t11 k1_t15 => k1_hw2.2.2.1.2.2.2.2.2.1 k1_t11 k1_t15
theorem k1_off204_inb : ∀ (i : grid1.Coords) (v218 : BitVec 32) (v220 : BitVec 32) (k1_hw2 : k1_chk2 i v218 v220) (k1_t11 : Fin (k1_t11_loop v218 v220).trips) (k1_t15 : Fin (k1_t15_loop v218 v220 k1_t11).trips), ∀ a, (k1_off204 v218 v220 k1_t11 k1_t15) a + S1x16.size a ≤ S72x256.size a := fun i v218 v220 k1_hw2 k1_t11 k1_t15 => k1_hw2.2.2.1.2.2.2.2.2.2.1 k1_t11 k1_t15
theorem k1_off205_inb : ∀ (i : grid1.Coords) (v218 : BitVec 32) (v220 : BitVec 32) (k1_hw2 : k1_chk2 i v218 v220) (k1_t11 : Fin (k1_t11_loop v218 v220).trips) (k1_t15 : Fin (k1_t15_loop v218 v220 k1_t11).trips), ∀ a, (k1_off205 v218 v220 k1_t11 k1_t15) a + S1x16.size a ≤ S72x256.size a := fun i v218 v220 k1_hw2 k1_t11 k1_t15 => k1_hw2.2.2.1.2.2.2.2.2.2.2.1 k1_t11 k1_t15
theorem k1_off206_inb : ∀ (i : grid1.Coords) (v218 : BitVec 32) (v220 : BitVec 32) (k1_hw2 : k1_chk2 i v218 v220) (k1_t11 : Fin (k1_t11_loop v218 v220).trips) (k1_t15 : Fin (k1_t15_loop v218 v220 k1_t11).trips), ∀ a, (k1_off206 v218 v220 k1_t11 k1_t15) a + S1x16.size a ≤ S72x256.size a := fun i v218 v220 k1_hw2 k1_t11 k1_t15 => k1_hw2.2.2.1.2.2.2.2.2.2.2.2.1 k1_t11 k1_t15
theorem k1_off207_inb : ∀ (i : grid1.Coords) (v218 : BitVec 32) (v220 : BitVec 32) (k1_hw2 : k1_chk2 i v218 v220) (k1_t11 : Fin (k1_t11_loop v218 v220).trips) (k1_t15 : Fin (k1_t15_loop v218 v220 k1_t11).trips), ∀ a, (k1_off207 v218 v220 k1_t11 k1_t15) a + S1x16.size a ≤ S72x256.size a := fun i v218 v220 k1_hw2 k1_t11 k1_t15 => k1_hw2.2.2.1.2.2.2.2.2.2.2.2.2.1 k1_t11 k1_t15
theorem k1_t16_ok : ∀ (i : grid1.Coords) (v218 : BitVec 32) (v220 : BitVec 32) (k1_hw2 : k1_chk2 i v218 v220), (k1_t16_loop v218 v220).OK := fun i v218 v220 k1_hw2 => k1_hw2.2.2.1.2.2.2.2.2.2.2.2.2.2.1
theorem k1_off208_inb : ∀ (i : grid1.Coords) (v218 : BitVec 32) (v220 : BitVec 32) (k1_hw2 : k1_chk2 i v218 v220) (k1_t16 : Fin (k1_t16_loop v218 v220).trips), ∀ (k1_h15 : k1_cond15 v218 v220 k1_t16 = 1#1), ∀ a, (k1_off208 i v218 v220 k1_t16) a + S72x256.size a ≤ S100000x512.size a := fun i v218 v220 k1_hw2 k1_t16 k1_h15 => k1_hw2.2.2.1.2.2.2.2.2.2.2.2.2.2.2.1 k1_t16 k1_h15
theorem k1_off209_inb : ∀ (i : grid1.Coords) (v218 : BitVec 32) (v220 : BitVec 32) (k1_hw2 : k1_chk2 i v218 v220) (k1_t16 : Fin (k1_t16_loop v218 v220).trips), ∀ (k1_h15 : k1_cond15 v218 v220 k1_t16 = 1#1), ∀ (k1_h16 : k1_cond16 v218 v220 k1_t16 = 1#1), ∀ a, (k1_off209 i v218 v220 k1_t16) a + S72x256.size a ≤ S100000x512.size a := fun i v218 v220 k1_hw2 k1_t16 k1_h15 k1_h16 => k1_hw2.2.2.1.2.2.2.2.2.2.2.2.2.2.2.2.1 k1_t16 k1_h15 k1_h16
theorem k1_t17_ok : ∀ (i : grid1.Coords) (v218 : BitVec 32) (v220 : BitVec 32) (k1_hw2 : k1_chk2 i v218 v220) (k1_t16 : Fin (k1_t16_loop v218 v220).trips), (k1_t17_loop v218 v220 k1_t16).OK := fun i v218 v220 k1_hw2 k1_t16 => k1_hw2.2.2.1.2.2.2.2.2.2.2.2.2.2.2.2.2.1 k1_t16
theorem k1_off210_inb : ∀ (i : grid1.Coords) (v218 : BitVec 32) (v220 : BitVec 32) (k1_hw2 : k1_chk2 i v218 v220) (k1_t16 : Fin (k1_t16_loop v218 v220).trips) (k1_t17 : Fin (k1_t17_loop v218 v220 k1_t16).trips), ∀ a, (k1_off210 v218 v220 k1_t16 k1_t17) a + S1x16.size a ≤ S72x256.size a := fun i v218 v220 k1_hw2 k1_t16 k1_t17 => k1_hw2.2.2.1.2.2.2.2.2.2.2.2.2.2.2.2.2.2.1 k1_t16 k1_t17
theorem k1_off211_inb : ∀ (i : grid1.Coords) (v218 : BitVec 32) (v220 : BitVec 32) (k1_hw2 : k1_chk2 i v218 v220) (k1_t16 : Fin (k1_t16_loop v218 v220).trips) (k1_t17 : Fin (k1_t17_loop v218 v220 k1_t16).trips), ∀ a, (k1_off211 v218 v220 k1_t16 k1_t17) a + S1x16.size a ≤ S72x256.size a := fun i v218 v220 k1_hw2 k1_t16 k1_t17 => k1_hw2.2.2.1.2.2.2.2.2.2.2.2.2.2.2.2.2.2.2.1 k1_t16 k1_t17
theorem k1_off212_inb : ∀ (i : grid1.Coords) (v218 : BitVec 32) (v220 : BitVec 32) (k1_hw2 : k1_chk2 i v218 v220) (k1_t16 : Fin (k1_t16_loop v218 v220).trips) (k1_t17 : Fin (k1_t17_loop v218 v220 k1_t16).trips), ∀ a, (k1_off212 v218 v220 k1_t16 k1_t17) a + S1x16.size a ≤ S72x256.size a := fun i v218 v220 k1_hw2 k1_t16 k1_t17 => k1_hw2.2.2.1.2.2.2.2.2.2.2.2.2.2.2.2.2.2.2.2.1 k1_t16 k1_t17
theorem k1_off213_inb : ∀ (i : grid1.Coords) (v218 : BitVec 32) (v220 : BitVec 32) (k1_hw2 : k1_chk2 i v218 v220) (k1_t16 : Fin (k1_t16_loop v218 v220).trips) (k1_t17 : Fin (k1_t17_loop v218 v220 k1_t16).trips), ∀ a, (k1_off213 v218 v220 k1_t16 k1_t17) a + S1x16.size a ≤ S72x256.size a := fun i v218 v220 k1_hw2 k1_t16 k1_t17 => k1_hw2.2.2.1.2.2.2.2.2.2.2.2.2.2.2.2.2.2.2.2.2.1 k1_t16 k1_t17
theorem k1_off214_inb : ∀ (i : grid1.Coords) (v218 : BitVec 32) (v220 : BitVec 32) (k1_hw2 : k1_chk2 i v218 v220) (k1_t16 : Fin (k1_t16_loop v218 v220).trips) (k1_t17 : Fin (k1_t17_loop v218 v220 k1_t16).trips), ∀ a, (k1_off214 v218 v220 k1_t16 k1_t17) a + S1x16.size a ≤ S72x256.size a := fun i v218 v220 k1_hw2 k1_t16 k1_t17 => k1_hw2.2.2.1.2.2.2.2.2.2.2.2.2.2.2.2.2.2.2.2.2.2.1 k1_t16 k1_t17
theorem k1_off215_inb : ∀ (i : grid1.Coords) (v218 : BitVec 32) (v220 : BitVec 32) (k1_hw2 : k1_chk2 i v218 v220) (k1_t16 : Fin (k1_t16_loop v218 v220).trips) (k1_t17 : Fin (k1_t17_loop v218 v220 k1_t16).trips), ∀ a, (k1_off215 v218 v220 k1_t16 k1_t17) a + S1x16.size a ≤ S72x256.size a := fun i v218 v220 k1_hw2 k1_t16 k1_t17 => k1_hw2.2.2.1.2.2.2.2.2.2.2.2.2.2.2.2.2.2.2.2.2.2.2.1 k1_t16 k1_t17
theorem k1_off216_inb : ∀ (i : grid1.Coords) (v218 : BitVec 32) (v220 : BitVec 32) (k1_hw2 : k1_chk2 i v218 v220) (k1_t16 : Fin (k1_t16_loop v218 v220).trips) (k1_t17 : Fin (k1_t17_loop v218 v220 k1_t16).trips), ∀ a, (k1_off216 v218 v220 k1_t16 k1_t17) a + S1x16.size a ≤ S72x256.size a := fun i v218 v220 k1_hw2 k1_t16 k1_t17 => k1_hw2.2.2.1.2.2.2.2.2.2.2.2.2.2.2.2.2.2.2.2.2.2.2.2.1 k1_t16 k1_t17
theorem k1_off217_inb : ∀ (i : grid1.Coords) (v218 : BitVec 32) (v220 : BitVec 32) (k1_hw2 : k1_chk2 i v218 v220) (k1_t16 : Fin (k1_t16_loop v218 v220).trips) (k1_t17 : Fin (k1_t17_loop v218 v220 k1_t16).trips), ∀ a, (k1_off217 v218 v220 k1_t16 k1_t17) a + S1x16.size a ≤ S72x256.size a := fun i v218 v220 k1_hw2 k1_t16 k1_t17 => k1_hw2.2.2.1.2.2.2.2.2.2.2.2.2.2.2.2.2.2.2.2.2.2.2.2.2.1 k1_t16 k1_t17
theorem k1_off218_inb : ∀ (i : grid1.Coords) (v218 : BitVec 32) (v220 : BitVec 32) (k1_hw2 : k1_chk2 i v218 v220) (k1_t16 : Fin (k1_t16_loop v218 v220).trips) (k1_t17 : Fin (k1_t17_loop v218 v220 k1_t16).trips), ∀ a, (k1_off218 v218 v220 k1_t16 k1_t17) a + S1x16.size a ≤ S72x256.size a := fun i v218 v220 k1_hw2 k1_t16 k1_t17 => k1_hw2.2.2.1.2.2.2.2.2.2.2.2.2.2.2.2.2.2.2.2.2.2.2.2.2.2.1 k1_t16 k1_t17
theorem k1_off219_inb : ∀ (i : grid1.Coords) (v218 : BitVec 32) (v220 : BitVec 32) (k1_hw2 : k1_chk2 i v218 v220) (k1_t16 : Fin (k1_t16_loop v218 v220).trips) (k1_t17 : Fin (k1_t17_loop v218 v220 k1_t16).trips), ∀ a, (k1_off219 v218 v220 k1_t16 k1_t17) a + S1x16.size a ≤ S72x256.size a := fun i v218 v220 k1_hw2 k1_t16 k1_t17 => k1_hw2.2.2.1.2.2.2.2.2.2.2.2.2.2.2.2.2.2.2.2.2.2.2.2.2.2.2.1 k1_t16 k1_t17
theorem k1_off220_inb : ∀ (i : grid1.Coords) (v218 : BitVec 32) (v220 : BitVec 32) (k1_hw2 : k1_chk2 i v218 v220) (k1_t16 : Fin (k1_t16_loop v218 v220).trips) (k1_t17 : Fin (k1_t17_loop v218 v220 k1_t16).trips), ∀ a, (k1_off220 v218 v220 k1_t16 k1_t17) a + S1x16.size a ≤ S72x256.size a := fun i v218 v220 k1_hw2 k1_t16 k1_t17 => k1_hw2.2.2.1.2.2.2.2.2.2.2.2.2.2.2.2.2.2.2.2.2.2.2.2.2.2.2.2.1 k1_t16 k1_t17
theorem k1_off221_inb : ∀ (i : grid1.Coords) (v218 : BitVec 32) (v220 : BitVec 32) (k1_hw2 : k1_chk2 i v218 v220) (k1_t16 : Fin (k1_t16_loop v218 v220).trips) (k1_t17 : Fin (k1_t17_loop v218 v220 k1_t16).trips), ∀ a, (k1_off221 v218 v220 k1_t16 k1_t17) a + S1x16.size a ≤ S72x256.size a := fun i v218 v220 k1_hw2 k1_t16 k1_t17 => k1_hw2.2.2.1.2.2.2.2.2.2.2.2.2.2.2.2.2.2.2.2.2.2.2.2.2.2.2.2.2.1 k1_t16 k1_t17
theorem k1_off222_inb : ∀ (i : grid1.Coords) (v218 : BitVec 32) (v220 : BitVec 32) (k1_hw2 : k1_chk2 i v218 v220) (k1_t16 : Fin (k1_t16_loop v218 v220).trips) (k1_t17 : Fin (k1_t17_loop v218 v220 k1_t16).trips), ∀ a, (k1_off222 v218 v220 k1_t16 k1_t17) a + S1x16.size a ≤ S72x256.size a := fun i v218 v220 k1_hw2 k1_t16 k1_t17 => k1_hw2.2.2.1.2.2.2.2.2.2.2.2.2.2.2.2.2.2.2.2.2.2.2.2.2.2.2.2.2.2.1 k1_t16 k1_t17
theorem k1_off223_inb : ∀ (i : grid1.Coords) (v218 : BitVec 32) (v220 : BitVec 32) (k1_hw2 : k1_chk2 i v218 v220) (k1_t16 : Fin (k1_t16_loop v218 v220).trips) (k1_t17 : Fin (k1_t17_loop v218 v220 k1_t16).trips), ∀ a, (k1_off223 v218 v220 k1_t16 k1_t17) a + S1x16.size a ≤ S72x256.size a := fun i v218 v220 k1_hw2 k1_t16 k1_t17 => k1_hw2.2.2.1.2.2.2.2.2.2.2.2.2.2.2.2.2.2.2.2.2.2.2.2.2.2.2.2.2.2.2.1 k1_t16 k1_t17
theorem k1_off224_inb : ∀ (i : grid1.Coords) (v218 : BitVec 32) (v220 : BitVec 32) (k1_hw2 : k1_chk2 i v218 v220) (k1_t16 : Fin (k1_t16_loop v218 v220).trips) (k1_t17 : Fin (k1_t17_loop v218 v220 k1_t16).trips), ∀ a, (k1_off224 v218 v220 k1_t16 k1_t17) a + S1x16.size a ≤ S72x256.size a := fun i v218 v220 k1_hw2 k1_t16 k1_t17 => k1_hw2.2.2.1.2.2.2.2.2.2.2.2.2.2.2.2.2.2.2.2.2.2.2.2.2.2.2.2.2.2.2.2.1 k1_t16 k1_t17
theorem k1_off225_inb : ∀ (i : grid1.Coords) (v218 : BitVec 32) (v220 : BitVec 32) (k1_hw2 : k1_chk2 i v218 v220) (k1_t16 : Fin (k1_t16_loop v218 v220).trips) (k1_t17 : Fin (k1_t17_loop v218 v220 k1_t16).trips), ∀ a, (k1_off225 v218 v220 k1_t16 k1_t17) a + S1x16.size a ≤ S72x256.size a := fun i v218 v220 k1_hw2 k1_t16 k1_t17 => k1_hw2.2.2.1.2.2.2.2.2.2.2.2.2.2.2.2.2.2.2.2.2.2.2.2.2.2.2.2.2.2.2.2.2.1 k1_t16 k1_t17
theorem k1_t18_ok : ∀ (i : grid1.Coords) (v218 : BitVec 32) (v220 : BitVec 32) (k1_hw2 : k1_chk2 i v218 v220) (k1_t16 : Fin (k1_t16_loop v218 v220).trips), (k1_t18_loop v218 v220 k1_t16).OK := fun i v218 v220 k1_hw2 k1_t16 => k1_hw2.2.2.1.2.2.2.2.2.2.2.2.2.2.2.2.2.2.2.2.2.2.2.2.2.2.2.2.2.2.2.2.2.2.1 k1_t16
theorem k1_off226_inb : ∀ (i : grid1.Coords) (v218 : BitVec 32) (v220 : BitVec 32) (k1_hw2 : k1_chk2 i v218 v220) (k1_t16 : Fin (k1_t16_loop v218 v220).trips) (k1_t18 : Fin (k1_t18_loop v218 v220 k1_t16).trips), ∀ a, (k1_off226 v218 v220 k1_t16 k1_t18) a + S1x16.size a ≤ S72x256.size a := fun i v218 v220 k1_hw2 k1_t16 k1_t18 => k1_hw2.2.2.1.2.2.2.2.2.2.2.2.2.2.2.2.2.2.2.2.2.2.2.2.2.2.2.2.2.2.2.2.2.2.2 k1_t16 k1_t18
theorem k1_off227_inb : ∀ (i : grid1.Coords) (v218 : BitVec 32) (v220 : BitVec 32) (k1_hw2 : k1_chk2 i v218 v220) (k1_t16 : Fin (k1_t16_loop v218 v220).trips) (k1_t18 : Fin (k1_t18_loop v218 v220 k1_t16).trips), ∀ a, (k1_off227 v218 v220 k1_t16 k1_t18) a + S1x16.size a ≤ S72x256.size a := fun i v218 v220 k1_hw2 k1_t16 k1_t18 => k1_hw2.2.2.2.1.1 k1_t16 k1_t18
theorem k1_off228_inb : ∀ (i : grid1.Coords) (v218 : BitVec 32) (v220 : BitVec 32) (k1_hw2 : k1_chk2 i v218 v220) (k1_t16 : Fin (k1_t16_loop v218 v220).trips) (k1_t18 : Fin (k1_t18_loop v218 v220 k1_t16).trips), ∀ a, (k1_off228 v218 v220 k1_t16 k1_t18) a + S1x16.size a ≤ S72x256.size a := fun i v218 v220 k1_hw2 k1_t16 k1_t18 => k1_hw2.2.2.2.1.2.1 k1_t16 k1_t18
theorem k1_off229_inb : ∀ (i : grid1.Coords) (v218 : BitVec 32) (v220 : BitVec 32) (k1_hw2 : k1_chk2 i v218 v220) (k1_t16 : Fin (k1_t16_loop v218 v220).trips) (k1_t18 : Fin (k1_t18_loop v218 v220 k1_t16).trips), ∀ a, (k1_off229 v218 v220 k1_t16 k1_t18) a + S1x16.size a ≤ S72x256.size a := fun i v218 v220 k1_hw2 k1_t16 k1_t18 => k1_hw2.2.2.2.1.2.2.1 k1_t16 k1_t18
theorem k1_off230_inb : ∀ (i : grid1.Coords) (v218 : BitVec 32) (v220 : BitVec 32) (k1_hw2 : k1_chk2 i v218 v220) (k1_t16 : Fin (k1_t16_loop v218 v220).trips) (k1_t18 : Fin (k1_t18_loop v218 v220 k1_t16).trips), ∀ a, (k1_off230 v218 v220 k1_t16 k1_t18) a + S1x16.size a ≤ S72x256.size a := fun i v218 v220 k1_hw2 k1_t16 k1_t18 => k1_hw2.2.2.2.1.2.2.2.1 k1_t16 k1_t18
theorem k1_off231_inb : ∀ (i : grid1.Coords) (v218 : BitVec 32) (v220 : BitVec 32) (k1_hw2 : k1_chk2 i v218 v220) (k1_t16 : Fin (k1_t16_loop v218 v220).trips) (k1_t18 : Fin (k1_t18_loop v218 v220 k1_t16).trips), ∀ a, (k1_off231 v218 v220 k1_t16 k1_t18) a + S1x16.size a ≤ S72x256.size a := fun i v218 v220 k1_hw2 k1_t16 k1_t18 => k1_hw2.2.2.2.1.2.2.2.2.1 k1_t16 k1_t18
theorem k1_off232_inb : ∀ (i : grid1.Coords) (v218 : BitVec 32) (v220 : BitVec 32) (k1_hw2 : k1_chk2 i v218 v220) (k1_t16 : Fin (k1_t16_loop v218 v220).trips) (k1_t18 : Fin (k1_t18_loop v218 v220 k1_t16).trips), ∀ a, (k1_off232 v218 v220 k1_t16 k1_t18) a + S1x16.size a ≤ S72x256.size a := fun i v218 v220 k1_hw2 k1_t16 k1_t18 => k1_hw2.2.2.2.1.2.2.2.2.2.1 k1_t16 k1_t18
theorem k1_off233_inb : ∀ (i : grid1.Coords) (v218 : BitVec 32) (v220 : BitVec 32) (k1_hw2 : k1_chk2 i v218 v220) (k1_t16 : Fin (k1_t16_loop v218 v220).trips) (k1_t18 : Fin (k1_t18_loop v218 v220 k1_t16).trips), ∀ a, (k1_off233 v218 v220 k1_t16 k1_t18) a + S1x16.size a ≤ S72x256.size a := fun i v218 v220 k1_hw2 k1_t16 k1_t18 => k1_hw2.2.2.2.1.2.2.2.2.2.2.1 k1_t16 k1_t18
theorem k1_off234_inb : ∀ (i : grid1.Coords) (v218 : BitVec 32) (v220 : BitVec 32) (k1_hw2 : k1_chk2 i v218 v220) (k1_t16 : Fin (k1_t16_loop v218 v220).trips) (k1_t18 : Fin (k1_t18_loop v218 v220 k1_t16).trips), ∀ a, (k1_off234 v218 v220 k1_t16 k1_t18) a + S1x16.size a ≤ S72x256.size a := fun i v218 v220 k1_hw2 k1_t16 k1_t18 => k1_hw2.2.2.2.1.2.2.2.2.2.2.2.1 k1_t16 k1_t18
theorem k1_off235_inb : ∀ (i : grid1.Coords) (v218 : BitVec 32) (v220 : BitVec 32) (k1_hw2 : k1_chk2 i v218 v220) (k1_t16 : Fin (k1_t16_loop v218 v220).trips) (k1_t18 : Fin (k1_t18_loop v218 v220 k1_t16).trips), ∀ a, (k1_off235 v218 v220 k1_t16 k1_t18) a + S1x16.size a ≤ S72x256.size a := fun i v218 v220 k1_hw2 k1_t16 k1_t18 => k1_hw2.2.2.2.1.2.2.2.2.2.2.2.2.1 k1_t16 k1_t18
theorem k1_off236_inb : ∀ (i : grid1.Coords) (v218 : BitVec 32) (v220 : BitVec 32) (k1_hw2 : k1_chk2 i v218 v220) (k1_t16 : Fin (k1_t16_loop v218 v220).trips) (k1_t18 : Fin (k1_t18_loop v218 v220 k1_t16).trips), ∀ a, (k1_off236 v218 v220 k1_t16 k1_t18) a + S1x16.size a ≤ S72x256.size a := fun i v218 v220 k1_hw2 k1_t16 k1_t18 => k1_hw2.2.2.2.1.2.2.2.2.2.2.2.2.2.1 k1_t16 k1_t18
theorem k1_off237_inb : ∀ (i : grid1.Coords) (v218 : BitVec 32) (v220 : BitVec 32) (k1_hw2 : k1_chk2 i v218 v220) (k1_t16 : Fin (k1_t16_loop v218 v220).trips) (k1_t18 : Fin (k1_t18_loop v218 v220 k1_t16).trips), ∀ a, (k1_off237 v218 v220 k1_t16 k1_t18) a + S1x16.size a ≤ S72x256.size a := fun i v218 v220 k1_hw2 k1_t16 k1_t18 => k1_hw2.2.2.2.1.2.2.2.2.2.2.2.2.2.2.1 k1_t16 k1_t18
theorem k1_off238_inb : ∀ (i : grid1.Coords) (v218 : BitVec 32) (v220 : BitVec 32) (k1_hw2 : k1_chk2 i v218 v220) (k1_t16 : Fin (k1_t16_loop v218 v220).trips) (k1_t18 : Fin (k1_t18_loop v218 v220 k1_t16).trips), ∀ a, (k1_off238 v218 v220 k1_t16 k1_t18) a + S1x16.size a ≤ S72x256.size a := fun i v218 v220 k1_hw2 k1_t16 k1_t18 => k1_hw2.2.2.2.1.2.2.2.2.2.2.2.2.2.2.2.1 k1_t16 k1_t18
theorem k1_off239_inb : ∀ (i : grid1.Coords) (v218 : BitVec 32) (v220 : BitVec 32) (k1_hw2 : k1_chk2 i v218 v220) (k1_t16 : Fin (k1_t16_loop v218 v220).trips) (k1_t18 : Fin (k1_t18_loop v218 v220 k1_t16).trips), ∀ a, (k1_off239 v218 v220 k1_t16 k1_t18) a + S1x16.size a ≤ S72x256.size a := fun i v218 v220 k1_hw2 k1_t16 k1_t18 => k1_hw2.2.2.2.1.2.2.2.2.2.2.2.2.2.2.2.2.1 k1_t16 k1_t18
theorem k1_off240_inb : ∀ (i : grid1.Coords) (v218 : BitVec 32) (v220 : BitVec 32) (k1_hw2 : k1_chk2 i v218 v220) (k1_t16 : Fin (k1_t16_loop v218 v220).trips) (k1_t18 : Fin (k1_t18_loop v218 v220 k1_t16).trips), ∀ a, (k1_off240 v218 v220 k1_t16 k1_t18) a + S1x16.size a ≤ S72x256.size a := fun i v218 v220 k1_hw2 k1_t16 k1_t18 => k1_hw2.2.2.2.1.2.2.2.2.2.2.2.2.2.2.2.2.2.1 k1_t16 k1_t18
theorem k1_off241_inb : ∀ (i : grid1.Coords) (v218 : BitVec 32) (v220 : BitVec 32) (k1_hw2 : k1_chk2 i v218 v220) (k1_t16 : Fin (k1_t16_loop v218 v220).trips) (k1_t18 : Fin (k1_t18_loop v218 v220 k1_t16).trips), ∀ a, (k1_off241 v218 v220 k1_t16 k1_t18) a + S1x16.size a ≤ S72x256.size a := fun i v218 v220 k1_hw2 k1_t16 k1_t18 => k1_hw2.2.2.2.1.2.2.2.2.2.2.2.2.2.2.2.2.2.2.1 k1_t16 k1_t18
theorem k1_off242_inb : ∀ (i : grid1.Coords) (v218 : BitVec 32) (v220 : BitVec 32) (k1_hw2 : k1_chk2 i v218 v220) (k1_t16 : Fin (k1_t16_loop v218 v220).trips), ∀ (k1_h17 : k1_cond17 v218 v220 k1_t16 = 1#1), ∀ a, (k1_off242 i v218 v220 k1_t16) a + S72x256.size a ≤ S100000x512.size a := fun i v218 v220 k1_hw2 k1_t16 k1_h17 => k1_hw2.2.2.2.1.2.2.2.2.2.2.2.2.2.2.2.2.2.2.2.1 k1_t16 k1_h17
theorem k1_off243_inb : ∀ (i : grid1.Coords) (v218 : BitVec 32) (v220 : BitVec 32) (k1_hw2 : k1_chk2 i v218 v220) (k1_t16 : Fin (k1_t16_loop v218 v220).trips), ∀ (k1_h17 : k1_cond17 v218 v220 k1_t16 = 1#1), ∀ (k1_h18 : k1_cond18 v218 v220 k1_t16 = 1#1), ∀ a, (k1_off243 i v218 v220 k1_t16) a + S72x256.size a ≤ S100000x512.size a := fun i v218 v220 k1_hw2 k1_t16 k1_h17 k1_h18 => k1_hw2.2.2.2.1.2.2.2.2.2.2.2.2.2.2.2.2.2.2.2.2.1 k1_t16 k1_h17 k1_h18
theorem k1_t19_ok : ∀ (i : grid1.Coords) (v218 : BitVec 32) (v220 : BitVec 32) (k1_hw2 : k1_chk2 i v218 v220) (k1_t16 : Fin (k1_t16_loop v218 v220).trips), (k1_t19_loop v218 v220 k1_t16).OK := fun i v218 v220 k1_hw2 k1_t16 => k1_hw2.2.2.2.1.2.2.2.2.2.2.2.2.2.2.2.2.2.2.2.2.2.1 k1_t16
theorem k1_off244_inb : ∀ (i : grid1.Coords) (v218 : BitVec 32) (v220 : BitVec 32) (k1_hw2 : k1_chk2 i v218 v220) (k1_t16 : Fin (k1_t16_loop v218 v220).trips) (k1_t19 : Fin (k1_t19_loop v218 v220 k1_t16).trips), ∀ a, (k1_off244 v218 v220 k1_t16 k1_t19) a + S1x16.size a ≤ S72x256.size a := fun i v218 v220 k1_hw2 k1_t16 k1_t19 => k1_hw2.2.2.2.1.2.2.2.2.2.2.2.2.2.2.2.2.2.2.2.2.2.2.1 k1_t16 k1_t19
theorem k1_off245_inb : ∀ (i : grid1.Coords) (v218 : BitVec 32) (v220 : BitVec 32) (k1_hw2 : k1_chk2 i v218 v220) (k1_t16 : Fin (k1_t16_loop v218 v220).trips) (k1_t19 : Fin (k1_t19_loop v218 v220 k1_t16).trips), ∀ a, (k1_off245 v218 v220 k1_t16 k1_t19) a + S1x16.size a ≤ S72x256.size a := fun i v218 v220 k1_hw2 k1_t16 k1_t19 => k1_hw2.2.2.2.1.2.2.2.2.2.2.2.2.2.2.2.2.2.2.2.2.2.2.2.1 k1_t16 k1_t19
theorem k1_off246_inb : ∀ (i : grid1.Coords) (v218 : BitVec 32) (v220 : BitVec 32) (k1_hw2 : k1_chk2 i v218 v220) (k1_t16 : Fin (k1_t16_loop v218 v220).trips) (k1_t19 : Fin (k1_t19_loop v218 v220 k1_t16).trips), ∀ a, (k1_off246 v218 v220 k1_t16 k1_t19) a + S1x16.size a ≤ S72x256.size a := fun i v218 v220 k1_hw2 k1_t16 k1_t19 => k1_hw2.2.2.2.1.2.2.2.2.2.2.2.2.2.2.2.2.2.2.2.2.2.2.2.2.1 k1_t16 k1_t19
theorem k1_off247_inb : ∀ (i : grid1.Coords) (v218 : BitVec 32) (v220 : BitVec 32) (k1_hw2 : k1_chk2 i v218 v220) (k1_t16 : Fin (k1_t16_loop v218 v220).trips) (k1_t19 : Fin (k1_t19_loop v218 v220 k1_t16).trips), ∀ a, (k1_off247 v218 v220 k1_t16 k1_t19) a + S1x16.size a ≤ S72x256.size a := fun i v218 v220 k1_hw2 k1_t16 k1_t19 => k1_hw2.2.2.2.1.2.2.2.2.2.2.2.2.2.2.2.2.2.2.2.2.2.2.2.2.2.1 k1_t16 k1_t19
theorem k1_off248_inb : ∀ (i : grid1.Coords) (v218 : BitVec 32) (v220 : BitVec 32) (k1_hw2 : k1_chk2 i v218 v220) (k1_t16 : Fin (k1_t16_loop v218 v220).trips) (k1_t19 : Fin (k1_t19_loop v218 v220 k1_t16).trips), ∀ a, (k1_off248 v218 v220 k1_t16 k1_t19) a + S1x16.size a ≤ S72x256.size a := fun i v218 v220 k1_hw2 k1_t16 k1_t19 => k1_hw2.2.2.2.1.2.2.2.2.2.2.2.2.2.2.2.2.2.2.2.2.2.2.2.2.2.2.1 k1_t16 k1_t19
theorem k1_off249_inb : ∀ (i : grid1.Coords) (v218 : BitVec 32) (v220 : BitVec 32) (k1_hw2 : k1_chk2 i v218 v220) (k1_t16 : Fin (k1_t16_loop v218 v220).trips) (k1_t19 : Fin (k1_t19_loop v218 v220 k1_t16).trips), ∀ a, (k1_off249 v218 v220 k1_t16 k1_t19) a + S1x16.size a ≤ S72x256.size a := fun i v218 v220 k1_hw2 k1_t16 k1_t19 => k1_hw2.2.2.2.1.2.2.2.2.2.2.2.2.2.2.2.2.2.2.2.2.2.2.2.2.2.2.2.1 k1_t16 k1_t19
theorem k1_off250_inb : ∀ (i : grid1.Coords) (v218 : BitVec 32) (v220 : BitVec 32) (k1_hw2 : k1_chk2 i v218 v220) (k1_t16 : Fin (k1_t16_loop v218 v220).trips) (k1_t19 : Fin (k1_t19_loop v218 v220 k1_t16).trips), ∀ a, (k1_off250 v218 v220 k1_t16 k1_t19) a + S1x16.size a ≤ S72x256.size a := fun i v218 v220 k1_hw2 k1_t16 k1_t19 => k1_hw2.2.2.2.1.2.2.2.2.2.2.2.2.2.2.2.2.2.2.2.2.2.2.2.2.2.2.2.2.1 k1_t16 k1_t19
theorem k1_off251_inb : ∀ (i : grid1.Coords) (v218 : BitVec 32) (v220 : BitVec 32) (k1_hw2 : k1_chk2 i v218 v220) (k1_t16 : Fin (k1_t16_loop v218 v220).trips) (k1_t19 : Fin (k1_t19_loop v218 v220 k1_t16).trips), ∀ a, (k1_off251 v218 v220 k1_t16 k1_t19) a + S1x16.size a ≤ S72x256.size a := fun i v218 v220 k1_hw2 k1_t16 k1_t19 => k1_hw2.2.2.2.1.2.2.2.2.2.2.2.2.2.2.2.2.2.2.2.2.2.2.2.2.2.2.2.2.2.1 k1_t16 k1_t19
theorem k1_off252_inb : ∀ (i : grid1.Coords) (v218 : BitVec 32) (v220 : BitVec 32) (k1_hw2 : k1_chk2 i v218 v220) (k1_t16 : Fin (k1_t16_loop v218 v220).trips) (k1_t19 : Fin (k1_t19_loop v218 v220 k1_t16).trips), ∀ a, (k1_off252 v218 v220 k1_t16 k1_t19) a + S1x16.size a ≤ S72x256.size a := fun i v218 v220 k1_hw2 k1_t16 k1_t19 => k1_hw2.2.2.2.1.2.2.2.2.2.2.2.2.2.2.2.2.2.2.2.2.2.2.2.2.2.2.2.2.2.2.1 k1_t16 k1_t19
theorem k1_off253_inb : ∀ (i : grid1.Coords) (v218 : BitVec 32) (v220 : BitVec 32) (k1_hw2 : k1_chk2 i v218 v220) (k1_t16 : Fin (k1_t16_loop v218 v220).trips) (k1_t19 : Fin (k1_t19_loop v218 v220 k1_t16).trips), ∀ a, (k1_off253 v218 v220 k1_t16 k1_t19) a + S1x16.size a ≤ S72x256.size a := fun i v218 v220 k1_hw2 k1_t16 k1_t19 => k1_hw2.2.2.2.1.2.2.2.2.2.2.2.2.2.2.2.2.2.2.2.2.2.2.2.2.2.2.2.2.2.2.2.1 k1_t16 k1_t19
theorem k1_off254_inb : ∀ (i : grid1.Coords) (v218 : BitVec 32) (v220 : BitVec 32) (k1_hw2 : k1_chk2 i v218 v220) (k1_t16 : Fin (k1_t16_loop v218 v220).trips) (k1_t19 : Fin (k1_t19_loop v218 v220 k1_t16).trips), ∀ a, (k1_off254 v218 v220 k1_t16 k1_t19) a + S1x16.size a ≤ S72x256.size a := fun i v218 v220 k1_hw2 k1_t16 k1_t19 => k1_hw2.2.2.2.1.2.2.2.2.2.2.2.2.2.2.2.2.2.2.2.2.2.2.2.2.2.2.2.2.2.2.2.2.1 k1_t16 k1_t19
theorem k1_off255_inb : ∀ (i : grid1.Coords) (v218 : BitVec 32) (v220 : BitVec 32) (k1_hw2 : k1_chk2 i v218 v220) (k1_t16 : Fin (k1_t16_loop v218 v220).trips) (k1_t19 : Fin (k1_t19_loop v218 v220 k1_t16).trips), ∀ a, (k1_off255 v218 v220 k1_t16 k1_t19) a + S1x16.size a ≤ S72x256.size a := fun i v218 v220 k1_hw2 k1_t16 k1_t19 => k1_hw2.2.2.2.1.2.2.2.2.2.2.2.2.2.2.2.2.2.2.2.2.2.2.2.2.2.2.2.2.2.2.2.2.2.1 k1_t16 k1_t19
theorem k1_off256_inb : ∀ (i : grid1.Coords) (v218 : BitVec 32) (v220 : BitVec 32) (k1_hw2 : k1_chk2 i v218 v220) (k1_t16 : Fin (k1_t16_loop v218 v220).trips) (k1_t19 : Fin (k1_t19_loop v218 v220 k1_t16).trips), ∀ a, (k1_off256 v218 v220 k1_t16 k1_t19) a + S1x16.size a ≤ S72x256.size a := fun i v218 v220 k1_hw2 k1_t16 k1_t19 => k1_hw2.2.2.2.1.2.2.2.2.2.2.2.2.2.2.2.2.2.2.2.2.2.2.2.2.2.2.2.2.2.2.2.2.2.2.1 k1_t16 k1_t19
theorem k1_off257_inb : ∀ (i : grid1.Coords) (v218 : BitVec 32) (v220 : BitVec 32) (k1_hw2 : k1_chk2 i v218 v220) (k1_t16 : Fin (k1_t16_loop v218 v220).trips) (k1_t19 : Fin (k1_t19_loop v218 v220 k1_t16).trips), ∀ a, (k1_off257 v218 v220 k1_t16 k1_t19) a + S1x16.size a ≤ S72x256.size a := fun i v218 v220 k1_hw2 k1_t16 k1_t19 => k1_hw2.2.2.2.1.2.2.2.2.2.2.2.2.2.2.2.2.2.2.2.2.2.2.2.2.2.2.2.2.2.2.2.2.2.2.2 k1_t16 k1_t19
theorem k1_off258_inb : ∀ (i : grid1.Coords) (v218 : BitVec 32) (v220 : BitVec 32) (k1_hw2 : k1_chk2 i v218 v220) (k1_t16 : Fin (k1_t16_loop v218 v220).trips) (k1_t19 : Fin (k1_t19_loop v218 v220 k1_t16).trips), ∀ a, (k1_off258 v218 v220 k1_t16 k1_t19) a + S1x16.size a ≤ S72x256.size a := fun i v218 v220 k1_hw2 k1_t16 k1_t19 => k1_hw2.2.2.2.2.1 k1_t16 k1_t19
theorem k1_off259_inb : ∀ (i : grid1.Coords) (v218 : BitVec 32) (v220 : BitVec 32) (k1_hw2 : k1_chk2 i v218 v220) (k1_t16 : Fin (k1_t16_loop v218 v220).trips) (k1_t19 : Fin (k1_t19_loop v218 v220 k1_t16).trips), ∀ a, (k1_off259 v218 v220 k1_t16 k1_t19) a + S1x16.size a ≤ S72x256.size a := fun i v218 v220 k1_hw2 k1_t16 k1_t19 => k1_hw2.2.2.2.2.2.1 k1_t16 k1_t19
theorem k1_t20_ok : ∀ (i : grid1.Coords) (v218 : BitVec 32) (v220 : BitVec 32) (k1_hw2 : k1_chk2 i v218 v220) (k1_t16 : Fin (k1_t16_loop v218 v220).trips), (k1_t20_loop v218 v220 k1_t16).OK := fun i v218 v220 k1_hw2 k1_t16 => k1_hw2.2.2.2.2.2.2.1 k1_t16
theorem k1_off260_inb : ∀ (i : grid1.Coords) (v218 : BitVec 32) (v220 : BitVec 32) (k1_hw2 : k1_chk2 i v218 v220) (k1_t16 : Fin (k1_t16_loop v218 v220).trips) (k1_t20 : Fin (k1_t20_loop v218 v220 k1_t16).trips), ∀ a, (k1_off260 v218 v220 k1_t16 k1_t20) a + S1x16.size a ≤ S72x256.size a := fun i v218 v220 k1_hw2 k1_t16 k1_t20 => k1_hw2.2.2.2.2.2.2.2.1 k1_t16 k1_t20
theorem k1_off261_inb : ∀ (i : grid1.Coords) (v218 : BitVec 32) (v220 : BitVec 32) (k1_hw2 : k1_chk2 i v218 v220) (k1_t16 : Fin (k1_t16_loop v218 v220).trips) (k1_t20 : Fin (k1_t20_loop v218 v220 k1_t16).trips), ∀ a, (k1_off261 v218 v220 k1_t16 k1_t20) a + S1x16.size a ≤ S72x256.size a := fun i v218 v220 k1_hw2 k1_t16 k1_t20 => k1_hw2.2.2.2.2.2.2.2.2.1 k1_t16 k1_t20
theorem k1_off262_inb : ∀ (i : grid1.Coords) (v218 : BitVec 32) (v220 : BitVec 32) (k1_hw2 : k1_chk2 i v218 v220) (k1_t16 : Fin (k1_t16_loop v218 v220).trips) (k1_t20 : Fin (k1_t20_loop v218 v220 k1_t16).trips), ∀ a, (k1_off262 v218 v220 k1_t16 k1_t20) a + S1x16.size a ≤ S72x256.size a := fun i v218 v220 k1_hw2 k1_t16 k1_t20 => k1_hw2.2.2.2.2.2.2.2.2.2.1 k1_t16 k1_t20
theorem k1_off263_inb : ∀ (i : grid1.Coords) (v218 : BitVec 32) (v220 : BitVec 32) (k1_hw2 : k1_chk2 i v218 v220) (k1_t16 : Fin (k1_t16_loop v218 v220).trips) (k1_t20 : Fin (k1_t20_loop v218 v220 k1_t16).trips), ∀ a, (k1_off263 v218 v220 k1_t16 k1_t20) a + S1x16.size a ≤ S72x256.size a := fun i v218 v220 k1_hw2 k1_t16 k1_t20 => k1_hw2.2.2.2.2.2.2.2.2.2.2.1 k1_t16 k1_t20
theorem k1_off264_inb : ∀ (i : grid1.Coords) (v218 : BitVec 32) (v220 : BitVec 32) (k1_hw2 : k1_chk2 i v218 v220) (k1_t16 : Fin (k1_t16_loop v218 v220).trips) (k1_t20 : Fin (k1_t20_loop v218 v220 k1_t16).trips), ∀ a, (k1_off264 v218 v220 k1_t16 k1_t20) a + S1x16.size a ≤ S72x256.size a := fun i v218 v220 k1_hw2 k1_t16 k1_t20 => k1_hw2.2.2.2.2.2.2.2.2.2.2.2.1 k1_t16 k1_t20
theorem k1_off265_inb : ∀ (i : grid1.Coords) (v218 : BitVec 32) (v220 : BitVec 32) (k1_hw2 : k1_chk2 i v218 v220) (k1_t16 : Fin (k1_t16_loop v218 v220).trips) (k1_t20 : Fin (k1_t20_loop v218 v220 k1_t16).trips), ∀ a, (k1_off265 v218 v220 k1_t16 k1_t20) a + S1x16.size a ≤ S72x256.size a := fun i v218 v220 k1_hw2 k1_t16 k1_t20 => k1_hw2.2.2.2.2.2.2.2.2.2.2.2.2.1 k1_t16 k1_t20
theorem k1_off266_inb : ∀ (i : grid1.Coords) (v218 : BitVec 32) (v220 : BitVec 32) (k1_hw2 : k1_chk2 i v218 v220) (k1_t16 : Fin (k1_t16_loop v218 v220).trips) (k1_t20 : Fin (k1_t20_loop v218 v220 k1_t16).trips), ∀ a, (k1_off266 v218 v220 k1_t16 k1_t20) a + S1x16.size a ≤ S72x256.size a := fun i v218 v220 k1_hw2 k1_t16 k1_t20 => k1_hw2.2.2.2.2.2.2.2.2.2.2.2.2.2.1 k1_t16 k1_t20
theorem k1_off267_inb : ∀ (i : grid1.Coords) (v218 : BitVec 32) (v220 : BitVec 32) (k1_hw2 : k1_chk2 i v218 v220) (k1_t16 : Fin (k1_t16_loop v218 v220).trips) (k1_t20 : Fin (k1_t20_loop v218 v220 k1_t16).trips), ∀ a, (k1_off267 v218 v220 k1_t16 k1_t20) a + S1x16.size a ≤ S72x256.size a := fun i v218 v220 k1_hw2 k1_t16 k1_t20 => k1_hw2.2.2.2.2.2.2.2.2.2.2.2.2.2.2.1 k1_t16 k1_t20
theorem k1_off268_inb : ∀ (i : grid1.Coords) (v218 : BitVec 32) (v220 : BitVec 32) (k1_hw2 : k1_chk2 i v218 v220) (k1_t16 : Fin (k1_t16_loop v218 v220).trips) (k1_t20 : Fin (k1_t20_loop v218 v220 k1_t16).trips), ∀ a, (k1_off268 v218 v220 k1_t16 k1_t20) a + S1x16.size a ≤ S72x256.size a := fun i v218 v220 k1_hw2 k1_t16 k1_t20 => k1_hw2.2.2.2.2.2.2.2.2.2.2.2.2.2.2.2.1 k1_t16 k1_t20
theorem k1_off269_inb : ∀ (i : grid1.Coords) (v218 : BitVec 32) (v220 : BitVec 32) (k1_hw2 : k1_chk2 i v218 v220) (k1_t16 : Fin (k1_t16_loop v218 v220).trips) (k1_t20 : Fin (k1_t20_loop v218 v220 k1_t16).trips), ∀ a, (k1_off269 v218 v220 k1_t16 k1_t20) a + S1x16.size a ≤ S72x256.size a := fun i v218 v220 k1_hw2 k1_t16 k1_t20 => k1_hw2.2.2.2.2.2.2.2.2.2.2.2.2.2.2.2.2.1 k1_t16 k1_t20
theorem k1_off270_inb : ∀ (i : grid1.Coords) (v218 : BitVec 32) (v220 : BitVec 32) (k1_hw2 : k1_chk2 i v218 v220) (k1_t16 : Fin (k1_t16_loop v218 v220).trips) (k1_t20 : Fin (k1_t20_loop v218 v220 k1_t16).trips), ∀ a, (k1_off270 v218 v220 k1_t16 k1_t20) a + S1x16.size a ≤ S72x256.size a := fun i v218 v220 k1_hw2 k1_t16 k1_t20 => k1_hw2.2.2.2.2.2.2.2.2.2.2.2.2.2.2.2.2.2.1 k1_t16 k1_t20
theorem k1_off271_inb : ∀ (i : grid1.Coords) (v218 : BitVec 32) (v220 : BitVec 32) (k1_hw2 : k1_chk2 i v218 v220) (k1_t16 : Fin (k1_t16_loop v218 v220).trips) (k1_t20 : Fin (k1_t20_loop v218 v220 k1_t16).trips), ∀ a, (k1_off271 v218 v220 k1_t16 k1_t20) a + S1x16.size a ≤ S72x256.size a := fun i v218 v220 k1_hw2 k1_t16 k1_t20 => k1_hw2.2.2.2.2.2.2.2.2.2.2.2.2.2.2.2.2.2.2.1 k1_t16 k1_t20
theorem k1_off272_inb : ∀ (i : grid1.Coords) (v218 : BitVec 32) (v220 : BitVec 32) (k1_hw2 : k1_chk2 i v218 v220) (k1_t16 : Fin (k1_t16_loop v218 v220).trips) (k1_t20 : Fin (k1_t20_loop v218 v220 k1_t16).trips), ∀ a, (k1_off272 v218 v220 k1_t16 k1_t20) a + S1x16.size a ≤ S72x256.size a := fun i v218 v220 k1_hw2 k1_t16 k1_t20 => k1_hw2.2.2.2.2.2.2.2.2.2.2.2.2.2.2.2.2.2.2.2.1 k1_t16 k1_t20
theorem k1_off273_inb : ∀ (i : grid1.Coords) (v218 : BitVec 32) (v220 : BitVec 32) (k1_hw2 : k1_chk2 i v218 v220) (k1_t16 : Fin (k1_t16_loop v218 v220).trips) (k1_t20 : Fin (k1_t20_loop v218 v220 k1_t16).trips), ∀ a, (k1_off273 v218 v220 k1_t16 k1_t20) a + S1x16.size a ≤ S72x256.size a := fun i v218 v220 k1_hw2 k1_t16 k1_t20 => k1_hw2.2.2.2.2.2.2.2.2.2.2.2.2.2.2.2.2.2.2.2.2.1 k1_t16 k1_t20
theorem k1_off274_inb : ∀ (i : grid1.Coords) (v218 : BitVec 32) (v220 : BitVec 32) (k1_hw2 : k1_chk2 i v218 v220) (k1_t16 : Fin (k1_t16_loop v218 v220).trips) (k1_t20 : Fin (k1_t20_loop v218 v220 k1_t16).trips), ∀ a, (k1_off274 v218 v220 k1_t16 k1_t20) a + S1x16.size a ≤ S72x256.size a := fun i v218 v220 k1_hw2 k1_t16 k1_t20 => k1_hw2.2.2.2.2.2.2.2.2.2.2.2.2.2.2.2.2.2.2.2.2.2.1 k1_t16 k1_t20
theorem k1_off275_inb : ∀ (i : grid1.Coords) (v218 : BitVec 32) (v220 : BitVec 32) (k1_hw2 : k1_chk2 i v218 v220) (k1_t16 : Fin (k1_t16_loop v218 v220).trips) (k1_t20 : Fin (k1_t20_loop v218 v220 k1_t16).trips), ∀ a, (k1_off275 v218 v220 k1_t16 k1_t20) a + S1x16.size a ≤ S72x256.size a := fun i v218 v220 k1_hw2 k1_t16 k1_t20 => k1_hw2.2.2.2.2.2.2.2.2.2.2.2.2.2.2.2.2.2.2.2.2.2.2 k1_t16 k1_t20

def k1_off276 (i : grid1.Coords) (v400 : BitVec 32) : Fin 2 → Nat :=
  let c0_i32_1408 : BitVec 32 := 0#32
  let v2949 : BitVec 32 := Scalar.addi v400 c0_i32_1408
  let c0_i32_1410 : BitVec 32 := 0#32
  let v2951 : BitVec 1 := Scalar.cmpi .sgt v2949 c0_i32_1410
  let v2952 : BitVec 32 := Scalar.extui v2951
  let c0_i32_1411 : BitVec 32 := 0#32
  let v2953 : BitVec 1 := Scalar.cmpi .slt v2949 c0_i32_1411
  let v2954 : BitVec 32 := Scalar.extui v2953
  let v2955 : BitVec 32 := Scalar.subi v2952 v2954
  let c8_i32_1409 : BitVec 32 := 8#32
  let c0_i32_1412 : BitVec 32 := 0#32
  let v2956 : BitVec 1 := Scalar.cmpi .sgt c8_i32_1409 c0_i32_1412
  let v2957 : BitVec 32 := Scalar.extui v2956
  let c0_i32_1413 : BitVec 32 := 0#32
  let v2958 : BitVec 1 := Scalar.cmpi .slt c8_i32_1409 c0_i32_1413
  let v2959 : BitVec 32 := Scalar.extui v2958
  let v2960 : BitVec 32 := Scalar.subi v2957 v2959
  let v2961 : BitVec 1 := Scalar.cmpi .ne v2955 v2960
  let v2962 : BitVec 32 := Scalar.remsi v2949 c8_i32_1409
  let c0_i32_1414 : BitVec 32 := 0#32
  let v2963 : BitVec 1 := Scalar.cmpi .ne v2962 c0_i32_1414
  let v2964 : BitVec 1 := Scalar.andi v2961 v2963
  let v2950 : BitVec 32 := Scalar.divsi v2949 c8_i32_1409
  let c1_i32_1415 : BitVec 32 := 1#32
  let v2965 : BitVec 32 := Scalar.subi v2950 c1_i32_1415
  let v2966 : BitVec 32 := Scalar.select v2964 v2965 v2950
  let c8_i32_1416 : BitVec 32 := 8#32
  let v2967 : BitVec 32 := Scalar.muli v2966 c8_i32_1416
  let c99928_i32 : BitVec 32 := 99928#32
  let v2968 : BitVec 32 := Scalar.minsi v2967 c99928_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v2968.toNat, v29.toNat]
def k1_cond19 (v400 : BitVec 32) (v402 : BitVec 32) : BitVec 1 :=
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c0_i32_184 : BitVec 32 := 0#32
  let v425 : BitVec 1 := Scalar.cmpi .sgt v424 c0_i32_184
  let v426 : BitVec 32 := Scalar.extui v425
  let c0_i32_185 : BitVec 32 := 0#32
  let v427 : BitVec 1 := Scalar.cmpi .ne v426 c0_i32_185
  v427

@[reducible] def k1_t21_loop (v400 : BitVec 32) (v402 : BitVec 32) : Scf.Loop 32 :=
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_196 : BitVec 32 := 1#32
  ⟨c0_i32_194, v450, c1_i32_196⟩
def k1_off277 (i : grid1.Coords) (v400 : BitVec 32) (v402 : BitVec 32) (k1_t21 : Fin (k1_t21_loop v400 v402).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1446 : BitVec 32 := 64#32
  let v3026 : BitVec 32 := Scalar.muli v2949 c64_i32_1446
  let v3027 : BitVec 32 := Scalar.addi v400 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond20 (v400 : BitVec 32) (v402 : BitVec 32) (k1_t21 : Fin (k1_t21_loop v400 v402).trips) : BitVec 1 :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let v2950 : BitVec 1 := Scalar.cmpi .slt v2949 v424
  let v2951 : BitVec 32 := Scalar.extui v2950
  let c0_i32_1409 : BitVec 32 := 0#32
  let v2952 : BitVec 1 := Scalar.cmpi .ne v2951 c0_i32_1409
  v2952

def k1_off278 (i : grid1.Coords) (v400 : BitVec 32) (v402 : BitVec 32) (k1_t21 : Fin (k1_t21_loop v400 v402).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v400 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond21 (v400 : BitVec 32) (v402 : BitVec 32) (k1_t21 : Fin (k1_t21_loop v400 v402).trips) : BitVec 1 :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c1_i32_1456 : BitVec 32 := 1#32
  let v3049 : BitVec 32 := Scalar.addi v2949 c1_i32_1456
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let v3050 : BitVec 1 := Scalar.cmpi .slt v3049 v424
  let v3051 : BitVec 32 := Scalar.extui v3050
  let c0_i32_1457 : BitVec 32 := 0#32
  let v3052 : BitVec 1 := Scalar.cmpi .ne v3051 c0_i32_1457
  v3052

@[reducible] def k1_t22_loop (v400 : BitVec 32) (v402 : BitVec 32) (k1_t21 : Fin (k1_t21_loop v400 v402).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off279 (v400 : BitVec 32) (v402 : BitVec 32) (k1_t21 : Fin (k1_t21_loop v400 v402).trips) (k1_t22 : Fin (k1_t22_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t22
  let v3026 : BitVec 32 := Scalar.addi v2976 arg46
  let v3027 : Index := Scalar.indexCast v3026
  let c0_1446 : Index := 0#32
  ![v3027.toNat, 0]
def k1_off280 (v400 : BitVec 32) (v402 : BitVec 32) (k1_t21 : Fin (k1_t21_loop v400 v402).trips) (k1_t22 : Fin (k1_t22_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t22
  let v3026 : BitVec 32 := Scalar.addi v2976 arg46
  let v3032 : Index := Scalar.indexCast v3026
  let c16_1447 : Index := 16#32
  ![v3032.toNat, 16]
def k1_off281 (v400 : BitVec 32) (v402 : BitVec 32) (k1_t21 : Fin (k1_t21_loop v400 v402).trips) (k1_t22 : Fin (k1_t22_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t22
  let v3026 : BitVec 32 := Scalar.addi v2976 arg46
  let v3037 : Index := Scalar.indexCast v3026
  let c32_1448 : Index := 32#32
  ![v3037.toNat, 32]
def k1_off282 (v400 : BitVec 32) (v402 : BitVec 32) (k1_t21 : Fin (k1_t21_loop v400 v402).trips) (k1_t22 : Fin (k1_t22_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t22
  let v3026 : BitVec 32 := Scalar.addi v2976 arg46
  let v3042 : Index := Scalar.indexCast v3026
  let c48_1449 : Index := 48#32
  ![v3042.toNat, 48]
def k1_off283 (v400 : BitVec 32) (v402 : BitVec 32) (k1_t21 : Fin (k1_t21_loop v400 v402).trips) (k1_t22 : Fin (k1_t22_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t22
  let v3026 : BitVec 32 := Scalar.addi v2976 arg46
  let v3047 : Index := Scalar.indexCast v3026
  let c64_1450 : Index := 64#32
  ![v3047.toNat, 64]
def k1_off284 (v400 : BitVec 32) (v402 : BitVec 32) (k1_t21 : Fin (k1_t21_loop v400 v402).trips) (k1_t22 : Fin (k1_t22_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t22
  let v3026 : BitVec 32 := Scalar.addi v2976 arg46
  let v3052 : Index := Scalar.indexCast v3026
  let c80_1451 : Index := 80#32
  ![v3052.toNat, 80]
def k1_off285 (v400 : BitVec 32) (v402 : BitVec 32) (k1_t21 : Fin (k1_t21_loop v400 v402).trips) (k1_t22 : Fin (k1_t22_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t22
  let v3026 : BitVec 32 := Scalar.addi v2976 arg46
  let v3057 : Index := Scalar.indexCast v3026
  let c96_1452 : Index := 96#32
  ![v3057.toNat, 96]
def k1_off286 (v400 : BitVec 32) (v402 : BitVec 32) (k1_t21 : Fin (k1_t21_loop v400 v402).trips) (k1_t22 : Fin (k1_t22_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t22
  let v3026 : BitVec 32 := Scalar.addi v2976 arg46
  let v3062 : Index := Scalar.indexCast v3026
  let c112_1453 : Index := 112#32
  ![v3062.toNat, 112]
def k1_off287 (v400 : BitVec 32) (v402 : BitVec 32) (k1_t21 : Fin (k1_t21_loop v400 v402).trips) (k1_t22 : Fin (k1_t22_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t22
  let v3026 : BitVec 32 := Scalar.addi v2976 arg46
  let v3067 : Index := Scalar.indexCast v3026
  let c128_1454 : Index := 128#32
  ![v3067.toNat, 128]
def k1_off288 (v400 : BitVec 32) (v402 : BitVec 32) (k1_t21 : Fin (k1_t21_loop v400 v402).trips) (k1_t22 : Fin (k1_t22_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t22
  let v3026 : BitVec 32 := Scalar.addi v2976 arg46
  let v3072 : Index := Scalar.indexCast v3026
  let c144_1455 : Index := 144#32
  ![v3072.toNat, 144]
def k1_off289 (v400 : BitVec 32) (v402 : BitVec 32) (k1_t21 : Fin (k1_t21_loop v400 v402).trips) (k1_t22 : Fin (k1_t22_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t22
  let v3026 : BitVec 32 := Scalar.addi v2976 arg46
  let v3077 : Index := Scalar.indexCast v3026
  let c160_1456 : Index := 160#32
  ![v3077.toNat, 160]
def k1_off290 (v400 : BitVec 32) (v402 : BitVec 32) (k1_t21 : Fin (k1_t21_loop v400 v402).trips) (k1_t22 : Fin (k1_t22_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t22
  let v3026 : BitVec 32 := Scalar.addi v2976 arg46
  let v3082 : Index := Scalar.indexCast v3026
  let c176_1457 : Index := 176#32
  ![v3082.toNat, 176]
def k1_off291 (v400 : BitVec 32) (v402 : BitVec 32) (k1_t21 : Fin (k1_t21_loop v400 v402).trips) (k1_t22 : Fin (k1_t22_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t22
  let v3026 : BitVec 32 := Scalar.addi v2976 arg46
  let v3087 : Index := Scalar.indexCast v3026
  let c192_1458 : Index := 192#32
  ![v3087.toNat, 192]
def k1_off292 (v400 : BitVec 32) (v402 : BitVec 32) (k1_t21 : Fin (k1_t21_loop v400 v402).trips) (k1_t22 : Fin (k1_t22_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t22
  let v3026 : BitVec 32 := Scalar.addi v2976 arg46
  let v3092 : Index := Scalar.indexCast v3026
  let c208_1459 : Index := 208#32
  ![v3092.toNat, 208]
def k1_off293 (v400 : BitVec 32) (v402 : BitVec 32) (k1_t21 : Fin (k1_t21_loop v400 v402).trips) (k1_t22 : Fin (k1_t22_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t22
  let v3026 : BitVec 32 := Scalar.addi v2976 arg46
  let v3097 : Index := Scalar.indexCast v3026
  let c224_1460 : Index := 224#32
  ![v3097.toNat, 224]
def k1_off294 (v400 : BitVec 32) (v402 : BitVec 32) (k1_t21 : Fin (k1_t21_loop v400 v402).trips) (k1_t22 : Fin (k1_t22_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t22
  let v3026 : BitVec 32 := Scalar.addi v2976 arg46
  let v3102 : Index := Scalar.indexCast v3026
  let c240_1461 : Index := 240#32
  ![v3102.toNat, 240]
@[reducible] def k1_t23_loop (v400 : BitVec 32) (v402 : BitVec 32) (k1_t21 : Fin (k1_t21_loop v400 v402).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off295 (v400 : BitVec 32) (v402 : BitVec 32) (k1_t21 : Fin (k1_t21_loop v400 v402).trips) (k1_t23 : Fin (k1_t23_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t23
  let v3026 : BitVec 32 := Scalar.addi v2976 arg46
  let v3027 : Index := Scalar.indexCast v3026
  let c0_1446 : Index := 0#32
  ![v3027.toNat, 0]
def k1_off296 (v400 : BitVec 32) (v402 : BitVec 32) (k1_t21 : Fin (k1_t21_loop v400 v402).trips) (k1_t23 : Fin (k1_t23_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t23
  let v3026 : BitVec 32 := Scalar.addi v2976 arg46
  let v3032 : Index := Scalar.indexCast v3026
  let c16_1447 : Index := 16#32
  ![v3032.toNat, 16]
def k1_off297 (v400 : BitVec 32) (v402 : BitVec 32) (k1_t21 : Fin (k1_t21_loop v400 v402).trips) (k1_t23 : Fin (k1_t23_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t23
  let v3026 : BitVec 32 := Scalar.addi v2976 arg46
  let v3037 : Index := Scalar.indexCast v3026
  let c32_1448 : Index := 32#32
  ![v3037.toNat, 32]
def k1_off298 (v400 : BitVec 32) (v402 : BitVec 32) (k1_t21 : Fin (k1_t21_loop v400 v402).trips) (k1_t23 : Fin (k1_t23_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t23
  let v3026 : BitVec 32 := Scalar.addi v2976 arg46
  let v3042 : Index := Scalar.indexCast v3026
  let c48_1449 : Index := 48#32
  ![v3042.toNat, 48]
def k1_off299 (v400 : BitVec 32) (v402 : BitVec 32) (k1_t21 : Fin (k1_t21_loop v400 v402).trips) (k1_t23 : Fin (k1_t23_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t23
  let v3026 : BitVec 32 := Scalar.addi v2976 arg46
  let v3047 : Index := Scalar.indexCast v3026
  let c64_1450 : Index := 64#32
  ![v3047.toNat, 64]
def k1_off300 (v400 : BitVec 32) (v402 : BitVec 32) (k1_t21 : Fin (k1_t21_loop v400 v402).trips) (k1_t23 : Fin (k1_t23_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t23
  let v3026 : BitVec 32 := Scalar.addi v2976 arg46
  let v3052 : Index := Scalar.indexCast v3026
  let c80_1451 : Index := 80#32
  ![v3052.toNat, 80]
def k1_off301 (v400 : BitVec 32) (v402 : BitVec 32) (k1_t21 : Fin (k1_t21_loop v400 v402).trips) (k1_t23 : Fin (k1_t23_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t23
  let v3026 : BitVec 32 := Scalar.addi v2976 arg46
  let v3057 : Index := Scalar.indexCast v3026
  let c96_1452 : Index := 96#32
  ![v3057.toNat, 96]
def k1_off302 (v400 : BitVec 32) (v402 : BitVec 32) (k1_t21 : Fin (k1_t21_loop v400 v402).trips) (k1_t23 : Fin (k1_t23_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t23
  let v3026 : BitVec 32 := Scalar.addi v2976 arg46
  let v3062 : Index := Scalar.indexCast v3026
  let c112_1453 : Index := 112#32
  ![v3062.toNat, 112]
def k1_off303 (v400 : BitVec 32) (v402 : BitVec 32) (k1_t21 : Fin (k1_t21_loop v400 v402).trips) (k1_t23 : Fin (k1_t23_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t23
  let v3026 : BitVec 32 := Scalar.addi v2976 arg46
  let v3067 : Index := Scalar.indexCast v3026
  let c128_1454 : Index := 128#32
  ![v3067.toNat, 128]
def k1_off304 (v400 : BitVec 32) (v402 : BitVec 32) (k1_t21 : Fin (k1_t21_loop v400 v402).trips) (k1_t23 : Fin (k1_t23_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t23
  let v3026 : BitVec 32 := Scalar.addi v2976 arg46
  let v3072 : Index := Scalar.indexCast v3026
  let c144_1455 : Index := 144#32
  ![v3072.toNat, 144]
def k1_off305 (v400 : BitVec 32) (v402 : BitVec 32) (k1_t21 : Fin (k1_t21_loop v400 v402).trips) (k1_t23 : Fin (k1_t23_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t23
  let v3026 : BitVec 32 := Scalar.addi v2976 arg46
  let v3077 : Index := Scalar.indexCast v3026
  let c160_1456 : Index := 160#32
  ![v3077.toNat, 160]
def k1_off306 (v400 : BitVec 32) (v402 : BitVec 32) (k1_t21 : Fin (k1_t21_loop v400 v402).trips) (k1_t23 : Fin (k1_t23_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t23
  let v3026 : BitVec 32 := Scalar.addi v2976 arg46
  let v3082 : Index := Scalar.indexCast v3026
  let c176_1457 : Index := 176#32
  ![v3082.toNat, 176]
def k1_off307 (v400 : BitVec 32) (v402 : BitVec 32) (k1_t21 : Fin (k1_t21_loop v400 v402).trips) (k1_t23 : Fin (k1_t23_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t23
  let v3026 : BitVec 32 := Scalar.addi v2976 arg46
  let v3087 : Index := Scalar.indexCast v3026
  let c192_1458 : Index := 192#32
  ![v3087.toNat, 192]
def k1_off308 (v400 : BitVec 32) (v402 : BitVec 32) (k1_t21 : Fin (k1_t21_loop v400 v402).trips) (k1_t23 : Fin (k1_t23_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t23
  let v3026 : BitVec 32 := Scalar.addi v2976 arg46
  let v3092 : Index := Scalar.indexCast v3026
  let c208_1459 : Index := 208#32
  ![v3092.toNat, 208]
def k1_off309 (v400 : BitVec 32) (v402 : BitVec 32) (k1_t21 : Fin (k1_t21_loop v400 v402).trips) (k1_t23 : Fin (k1_t23_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t23
  let v3026 : BitVec 32 := Scalar.addi v2976 arg46
  let v3097 : Index := Scalar.indexCast v3026
  let c224_1460 : Index := 224#32
  ![v3097.toNat, 224]
def k1_off310 (v400 : BitVec 32) (v402 : BitVec 32) (k1_t21 : Fin (k1_t21_loop v400 v402).trips) (k1_t23 : Fin (k1_t23_loop v400 v402 k1_t21).trips) : Fin 2 → Nat :=
  let c2_i32_1408 : BitVec 32 := 2#32
  let c0_i32_194 : BitVec 32 := 0#32
  let c1_i32_196 : BitVec 32 := 1#32
  let arg13 : BitVec 32 := Scf.iv c0_i32_194 c1_i32_196 k1_t21
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t23
  let v3026 : BitVec 32 := Scalar.addi v2976 arg46
  let v3102 : Index := Scalar.indexCast v3026
  let c240_1461 : Index := 240#32
  ![v3102.toNat, 240]
def k1_off311 (i : grid1.Coords) (v400 : BitVec 32) (v402 : BitVec 32) (k1_t21 : Fin (k1_t21_loop v400 v402).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v400 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond22 (v400 : BitVec 32) (v402 : BitVec 32) (k1_t21 : Fin (k1_t21_loop v400 v402).trips) : BitVec 1 :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let v2989 : BitVec 1 := Scalar.cmpi .slt v2988 v424
  let v2990 : BitVec 32 := Scalar.extui v2989
  let c0_i32_1428 : BitVec 32 := 0#32
  let v2991 : BitVec 1 := Scalar.cmpi .ne v2990 c0_i32_1428
  v2991

def k1_off312 (i : grid1.Coords) (v400 : BitVec 32) (v402 : BitVec 32) (k1_t21 : Fin (k1_t21_loop v400 v402).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v400 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond23 (v400 : BitVec 32) (v402 : BitVec 32) (k1_t21 : Fin (k1_t21_loop v400 v402).trips) : BitVec 1 :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let v3050 : BitVec 1 := Scalar.cmpi .slt v3049 v424
  let v3051 : BitVec 32 := Scalar.extui v3050
  let c0_i32_1457 : BitVec 32 := 0#32
  let v3052 : BitVec 1 := Scalar.cmpi .ne v3051 c0_i32_1457
  v3052

@[reducible] def k1_t24_loop (v400 : BitVec 32) (v402 : BitVec 32) (k1_t21 : Fin (k1_t21_loop v400 v402).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off313 (v400 : BitVec 32) (v402 : BitVec 32) (k1_t21 : Fin (k1_t21_loop v400 v402).trips) (k1_t24 : Fin (k1_t24_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t24
  let v3026 : BitVec 32 := Scalar.addi v3015 arg46
  let v3027 : Index := Scalar.indexCast v3026
  let c0_1446 : Index := 0#32
  ![v3027.toNat, 0]
def k1_off314 (v400 : BitVec 32) (v402 : BitVec 32) (k1_t21 : Fin (k1_t21_loop v400 v402).trips) (k1_t24 : Fin (k1_t24_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t24
  let v3026 : BitVec 32 := Scalar.addi v3015 arg46
  let v3032 : Index := Scalar.indexCast v3026
  let c16_1447 : Index := 16#32
  ![v3032.toNat, 16]
def k1_off315 (v400 : BitVec 32) (v402 : BitVec 32) (k1_t21 : Fin (k1_t21_loop v400 v402).trips) (k1_t24 : Fin (k1_t24_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t24
  let v3026 : BitVec 32 := Scalar.addi v3015 arg46
  let v3037 : Index := Scalar.indexCast v3026
  let c32_1448 : Index := 32#32
  ![v3037.toNat, 32]
def k1_off316 (v400 : BitVec 32) (v402 : BitVec 32) (k1_t21 : Fin (k1_t21_loop v400 v402).trips) (k1_t24 : Fin (k1_t24_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t24
  let v3026 : BitVec 32 := Scalar.addi v3015 arg46
  let v3042 : Index := Scalar.indexCast v3026
  let c48_1449 : Index := 48#32
  ![v3042.toNat, 48]
def k1_off317 (v400 : BitVec 32) (v402 : BitVec 32) (k1_t21 : Fin (k1_t21_loop v400 v402).trips) (k1_t24 : Fin (k1_t24_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t24
  let v3026 : BitVec 32 := Scalar.addi v3015 arg46
  let v3047 : Index := Scalar.indexCast v3026
  let c64_1450 : Index := 64#32
  ![v3047.toNat, 64]
def k1_off318 (v400 : BitVec 32) (v402 : BitVec 32) (k1_t21 : Fin (k1_t21_loop v400 v402).trips) (k1_t24 : Fin (k1_t24_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t24
  let v3026 : BitVec 32 := Scalar.addi v3015 arg46
  let v3052 : Index := Scalar.indexCast v3026
  let c80_1451 : Index := 80#32
  ![v3052.toNat, 80]
def k1_off319 (v400 : BitVec 32) (v402 : BitVec 32) (k1_t21 : Fin (k1_t21_loop v400 v402).trips) (k1_t24 : Fin (k1_t24_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t24
  let v3026 : BitVec 32 := Scalar.addi v3015 arg46
  let v3057 : Index := Scalar.indexCast v3026
  let c96_1452 : Index := 96#32
  ![v3057.toNat, 96]
def k1_off320 (v400 : BitVec 32) (v402 : BitVec 32) (k1_t21 : Fin (k1_t21_loop v400 v402).trips) (k1_t24 : Fin (k1_t24_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t24
  let v3026 : BitVec 32 := Scalar.addi v3015 arg46
  let v3062 : Index := Scalar.indexCast v3026
  let c112_1453 : Index := 112#32
  ![v3062.toNat, 112]
def k1_off321 (v400 : BitVec 32) (v402 : BitVec 32) (k1_t21 : Fin (k1_t21_loop v400 v402).trips) (k1_t24 : Fin (k1_t24_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t24
  let v3026 : BitVec 32 := Scalar.addi v3015 arg46
  let v3067 : Index := Scalar.indexCast v3026
  let c128_1454 : Index := 128#32
  ![v3067.toNat, 128]
def k1_off322 (v400 : BitVec 32) (v402 : BitVec 32) (k1_t21 : Fin (k1_t21_loop v400 v402).trips) (k1_t24 : Fin (k1_t24_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t24
  let v3026 : BitVec 32 := Scalar.addi v3015 arg46
  let v3072 : Index := Scalar.indexCast v3026
  let c144_1455 : Index := 144#32
  ![v3072.toNat, 144]
def k1_off323 (v400 : BitVec 32) (v402 : BitVec 32) (k1_t21 : Fin (k1_t21_loop v400 v402).trips) (k1_t24 : Fin (k1_t24_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t24
  let v3026 : BitVec 32 := Scalar.addi v3015 arg46
  let v3077 : Index := Scalar.indexCast v3026
  let c160_1456 : Index := 160#32
  ![v3077.toNat, 160]
def k1_off324 (v400 : BitVec 32) (v402 : BitVec 32) (k1_t21 : Fin (k1_t21_loop v400 v402).trips) (k1_t24 : Fin (k1_t24_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t24
  let v3026 : BitVec 32 := Scalar.addi v3015 arg46
  let v3082 : Index := Scalar.indexCast v3026
  let c176_1457 : Index := 176#32
  ![v3082.toNat, 176]
def k1_off325 (v400 : BitVec 32) (v402 : BitVec 32) (k1_t21 : Fin (k1_t21_loop v400 v402).trips) (k1_t24 : Fin (k1_t24_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t24
  let v3026 : BitVec 32 := Scalar.addi v3015 arg46
  let v3087 : Index := Scalar.indexCast v3026
  let c192_1458 : Index := 192#32
  ![v3087.toNat, 192]
def k1_off326 (v400 : BitVec 32) (v402 : BitVec 32) (k1_t21 : Fin (k1_t21_loop v400 v402).trips) (k1_t24 : Fin (k1_t24_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t24
  let v3026 : BitVec 32 := Scalar.addi v3015 arg46
  let v3092 : Index := Scalar.indexCast v3026
  let c208_1459 : Index := 208#32
  ![v3092.toNat, 208]
def k1_off327 (v400 : BitVec 32) (v402 : BitVec 32) (k1_t21 : Fin (k1_t21_loop v400 v402).trips) (k1_t24 : Fin (k1_t24_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t24
  let v3026 : BitVec 32 := Scalar.addi v3015 arg46
  let v3097 : Index := Scalar.indexCast v3026
  let c224_1460 : Index := 224#32
  ![v3097.toNat, 224]
def k1_off328 (v400 : BitVec 32) (v402 : BitVec 32) (k1_t21 : Fin (k1_t21_loop v400 v402).trips) (k1_t24 : Fin (k1_t24_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t24
  let v3026 : BitVec 32 := Scalar.addi v3015 arg46
  let v3102 : Index := Scalar.indexCast v3026
  let c240_1461 : Index := 240#32
  ![v3102.toNat, 240]
@[reducible] def k1_t25_loop (v400 : BitVec 32) (v402 : BitVec 32) (k1_t21 : Fin (k1_t21_loop v400 v402).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off329 (v400 : BitVec 32) (v402 : BitVec 32) (k1_t21 : Fin (k1_t21_loop v400 v402).trips) (k1_t25 : Fin (k1_t25_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t25
  let v3026 : BitVec 32 := Scalar.addi v3015 arg46
  let v3027 : Index := Scalar.indexCast v3026
  let c0_1446 : Index := 0#32
  ![v3027.toNat, 0]
def k1_off330 (v400 : BitVec 32) (v402 : BitVec 32) (k1_t21 : Fin (k1_t21_loop v400 v402).trips) (k1_t25 : Fin (k1_t25_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t25
  let v3026 : BitVec 32 := Scalar.addi v3015 arg46
  let v3032 : Index := Scalar.indexCast v3026
  let c16_1447 : Index := 16#32
  ![v3032.toNat, 16]
def k1_off331 (v400 : BitVec 32) (v402 : BitVec 32) (k1_t21 : Fin (k1_t21_loop v400 v402).trips) (k1_t25 : Fin (k1_t25_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t25
  let v3026 : BitVec 32 := Scalar.addi v3015 arg46
  let v3037 : Index := Scalar.indexCast v3026
  let c32_1448 : Index := 32#32
  ![v3037.toNat, 32]
def k1_off332 (v400 : BitVec 32) (v402 : BitVec 32) (k1_t21 : Fin (k1_t21_loop v400 v402).trips) (k1_t25 : Fin (k1_t25_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t25
  let v3026 : BitVec 32 := Scalar.addi v3015 arg46
  let v3042 : Index := Scalar.indexCast v3026
  let c48_1449 : Index := 48#32
  ![v3042.toNat, 48]
def k1_off333 (v400 : BitVec 32) (v402 : BitVec 32) (k1_t21 : Fin (k1_t21_loop v400 v402).trips) (k1_t25 : Fin (k1_t25_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t25
  let v3026 : BitVec 32 := Scalar.addi v3015 arg46
  let v3047 : Index := Scalar.indexCast v3026
  let c64_1450 : Index := 64#32
  ![v3047.toNat, 64]
def k1_off334 (v400 : BitVec 32) (v402 : BitVec 32) (k1_t21 : Fin (k1_t21_loop v400 v402).trips) (k1_t25 : Fin (k1_t25_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t25
  let v3026 : BitVec 32 := Scalar.addi v3015 arg46
  let v3052 : Index := Scalar.indexCast v3026
  let c80_1451 : Index := 80#32
  ![v3052.toNat, 80]
def k1_off335 (v400 : BitVec 32) (v402 : BitVec 32) (k1_t21 : Fin (k1_t21_loop v400 v402).trips) (k1_t25 : Fin (k1_t25_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t25
  let v3026 : BitVec 32 := Scalar.addi v3015 arg46
  let v3057 : Index := Scalar.indexCast v3026
  let c96_1452 : Index := 96#32
  ![v3057.toNat, 96]
def k1_off336 (v400 : BitVec 32) (v402 : BitVec 32) (k1_t21 : Fin (k1_t21_loop v400 v402).trips) (k1_t25 : Fin (k1_t25_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t25
  let v3026 : BitVec 32 := Scalar.addi v3015 arg46
  let v3062 : Index := Scalar.indexCast v3026
  let c112_1453 : Index := 112#32
  ![v3062.toNat, 112]
def k1_off337 (v400 : BitVec 32) (v402 : BitVec 32) (k1_t21 : Fin (k1_t21_loop v400 v402).trips) (k1_t25 : Fin (k1_t25_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t25
  let v3026 : BitVec 32 := Scalar.addi v3015 arg46
  let v3067 : Index := Scalar.indexCast v3026
  let c128_1454 : Index := 128#32
  ![v3067.toNat, 128]
def k1_off338 (v400 : BitVec 32) (v402 : BitVec 32) (k1_t21 : Fin (k1_t21_loop v400 v402).trips) (k1_t25 : Fin (k1_t25_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t25
  let v3026 : BitVec 32 := Scalar.addi v3015 arg46
  let v3072 : Index := Scalar.indexCast v3026
  let c144_1455 : Index := 144#32
  ![v3072.toNat, 144]
def k1_off339 (v400 : BitVec 32) (v402 : BitVec 32) (k1_t21 : Fin (k1_t21_loop v400 v402).trips) (k1_t25 : Fin (k1_t25_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t25
  let v3026 : BitVec 32 := Scalar.addi v3015 arg46
  let v3077 : Index := Scalar.indexCast v3026
  let c160_1456 : Index := 160#32
  ![v3077.toNat, 160]
def k1_off340 (v400 : BitVec 32) (v402 : BitVec 32) (k1_t21 : Fin (k1_t21_loop v400 v402).trips) (k1_t25 : Fin (k1_t25_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t25
  let v3026 : BitVec 32 := Scalar.addi v3015 arg46
  let v3082 : Index := Scalar.indexCast v3026
  let c176_1457 : Index := 176#32
  ![v3082.toNat, 176]
def k1_off341 (v400 : BitVec 32) (v402 : BitVec 32) (k1_t21 : Fin (k1_t21_loop v400 v402).trips) (k1_t25 : Fin (k1_t25_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t25
  let v3026 : BitVec 32 := Scalar.addi v3015 arg46
  let v3087 : Index := Scalar.indexCast v3026
  let c192_1458 : Index := 192#32
  ![v3087.toNat, 192]
def k1_off342 (v400 : BitVec 32) (v402 : BitVec 32) (k1_t21 : Fin (k1_t21_loop v400 v402).trips) (k1_t25 : Fin (k1_t25_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t25
  let v3026 : BitVec 32 := Scalar.addi v3015 arg46
  let v3092 : Index := Scalar.indexCast v3026
  let c208_1459 : Index := 208#32
  ![v3092.toNat, 208]
def k1_off343 (v400 : BitVec 32) (v402 : BitVec 32) (k1_t21 : Fin (k1_t21_loop v400 v402).trips) (k1_t25 : Fin (k1_t25_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t25
  let v3026 : BitVec 32 := Scalar.addi v3015 arg46
  let v3097 : Index := Scalar.indexCast v3026
  let c224_1460 : Index := 224#32
  ![v3097.toNat, 224]
def k1_off344 (v400 : BitVec 32) (v402 : BitVec 32) (k1_t21 : Fin (k1_t21_loop v400 v402).trips) (k1_t25 : Fin (k1_t25_loop v400 v402 k1_t21).trips) : Fin 2 → Nat :=
  let c2_i32_1426 : BitVec 32 := 2#32
  let c0_i32_194 : BitVec 32 := 0#32
  let c1_i32_196 : BitVec 32 := 1#32
  let arg13 : BitVec 32 := Scf.iv c0_i32_194 c1_i32_196 k1_t21
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t25
  let v3026 : BitVec 32 := Scalar.addi v3015 arg46
  let v3102 : Index := Scalar.indexCast v3026
  let c240_1461 : Index := 240#32
  ![v3102.toNat, 240]
@[reducible] def k1_t26_loop (v400 : BitVec 32) (v402 : BitVec 32) : Scf.Loop 32 :=
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let v447 : BitVec 32 := Scalar.addi c0_i32_194 v446
  let c1_i32_197 : BitVec 32 := 1#32
  ⟨v450, v447, c1_i32_197⟩
def k1_off345 (i : grid1.Coords) (v400 : BitVec 32) (v402 : BitVec 32) (k1_t26 : Fin (k1_t26_loop v400 v402).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1446 : BitVec 32 := 64#32
  let v3026 : BitVec 32 := Scalar.muli v2949 c64_i32_1446
  let v3027 : BitVec 32 := Scalar.addi v400 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond24 (v400 : BitVec 32) (v402 : BitVec 32) (k1_t26 : Fin (k1_t26_loop v400 v402).trips) : BitVec 1 :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let v2950 : BitVec 1 := Scalar.cmpi .slt v2949 v424
  let v2951 : BitVec 32 := Scalar.extui v2950
  let c0_i32_1409 : BitVec 32 := 0#32
  let v2952 : BitVec 1 := Scalar.cmpi .ne v2951 c0_i32_1409
  v2952

def k1_off346 (i : grid1.Coords) (v400 : BitVec 32) (v402 : BitVec 32) (k1_t26 : Fin (k1_t26_loop v400 v402).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v400 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond25 (v400 : BitVec 32) (v402 : BitVec 32) (k1_t26 : Fin (k1_t26_loop v400 v402).trips) : BitVec 1 :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c1_i32_1456 : BitVec 32 := 1#32
  let v3049 : BitVec 32 := Scalar.addi v2949 c1_i32_1456
  let v3050 : BitVec 1 := Scalar.cmpi .slt v3049 v424
  let v3051 : BitVec 32 := Scalar.extui v3050
  let c0_i32_1457 : BitVec 32 := 0#32
  let v3052 : BitVec 1 := Scalar.cmpi .ne v3051 c0_i32_1457
  v3052

@[reducible] def k1_t27_loop (v400 : BitVec 32) (v402 : BitVec 32) (k1_t26 : Fin (k1_t26_loop v400 v402).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off347 (v400 : BitVec 32) (v402 : BitVec 32) (k1_t26 : Fin (k1_t26_loop v400 v402).trips) (k1_t27 : Fin (k1_t27_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t27
  let v3026 : BitVec 32 := Scalar.addi v2976 arg46
  let v3027 : Index := Scalar.indexCast v3026
  let c0_1446 : Index := 0#32
  ![v3027.toNat, 0]
def k1_off348 (v400 : BitVec 32) (v402 : BitVec 32) (k1_t26 : Fin (k1_t26_loop v400 v402).trips) (k1_t27 : Fin (k1_t27_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t27
  let v3026 : BitVec 32 := Scalar.addi v2976 arg46
  let v3032 : Index := Scalar.indexCast v3026
  let c16_1447 : Index := 16#32
  ![v3032.toNat, 16]
def k1_off349 (v400 : BitVec 32) (v402 : BitVec 32) (k1_t26 : Fin (k1_t26_loop v400 v402).trips) (k1_t27 : Fin (k1_t27_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t27
  let v3026 : BitVec 32 := Scalar.addi v2976 arg46
  let v3037 : Index := Scalar.indexCast v3026
  let c32_1448 : Index := 32#32
  ![v3037.toNat, 32]
def k1_off350 (v400 : BitVec 32) (v402 : BitVec 32) (k1_t26 : Fin (k1_t26_loop v400 v402).trips) (k1_t27 : Fin (k1_t27_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t27
  let v3026 : BitVec 32 := Scalar.addi v2976 arg46
  let v3042 : Index := Scalar.indexCast v3026
  let c48_1449 : Index := 48#32
  ![v3042.toNat, 48]
def k1_off351 (v400 : BitVec 32) (v402 : BitVec 32) (k1_t26 : Fin (k1_t26_loop v400 v402).trips) (k1_t27 : Fin (k1_t27_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t27
  let v3026 : BitVec 32 := Scalar.addi v2976 arg46
  let v3047 : Index := Scalar.indexCast v3026
  let c64_1450 : Index := 64#32
  ![v3047.toNat, 64]
def k1_off352 (v400 : BitVec 32) (v402 : BitVec 32) (k1_t26 : Fin (k1_t26_loop v400 v402).trips) (k1_t27 : Fin (k1_t27_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t27
  let v3026 : BitVec 32 := Scalar.addi v2976 arg46
  let v3052 : Index := Scalar.indexCast v3026
  let c80_1451 : Index := 80#32
  ![v3052.toNat, 80]
def k1_off353 (v400 : BitVec 32) (v402 : BitVec 32) (k1_t26 : Fin (k1_t26_loop v400 v402).trips) (k1_t27 : Fin (k1_t27_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t27
  let v3026 : BitVec 32 := Scalar.addi v2976 arg46
  let v3057 : Index := Scalar.indexCast v3026
  let c96_1452 : Index := 96#32
  ![v3057.toNat, 96]
def k1_off354 (v400 : BitVec 32) (v402 : BitVec 32) (k1_t26 : Fin (k1_t26_loop v400 v402).trips) (k1_t27 : Fin (k1_t27_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t27
  let v3026 : BitVec 32 := Scalar.addi v2976 arg46
  let v3062 : Index := Scalar.indexCast v3026
  let c112_1453 : Index := 112#32
  ![v3062.toNat, 112]
def k1_off355 (v400 : BitVec 32) (v402 : BitVec 32) (k1_t26 : Fin (k1_t26_loop v400 v402).trips) (k1_t27 : Fin (k1_t27_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t27
  let v3026 : BitVec 32 := Scalar.addi v2976 arg46
  let v3067 : Index := Scalar.indexCast v3026
  let c128_1454 : Index := 128#32
  ![v3067.toNat, 128]
def k1_off356 (v400 : BitVec 32) (v402 : BitVec 32) (k1_t26 : Fin (k1_t26_loop v400 v402).trips) (k1_t27 : Fin (k1_t27_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t27
  let v3026 : BitVec 32 := Scalar.addi v2976 arg46
  let v3072 : Index := Scalar.indexCast v3026
  let c144_1455 : Index := 144#32
  ![v3072.toNat, 144]
def k1_off357 (v400 : BitVec 32) (v402 : BitVec 32) (k1_t26 : Fin (k1_t26_loop v400 v402).trips) (k1_t27 : Fin (k1_t27_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t27
  let v3026 : BitVec 32 := Scalar.addi v2976 arg46
  let v3077 : Index := Scalar.indexCast v3026
  let c160_1456 : Index := 160#32
  ![v3077.toNat, 160]
def k1_off358 (v400 : BitVec 32) (v402 : BitVec 32) (k1_t26 : Fin (k1_t26_loop v400 v402).trips) (k1_t27 : Fin (k1_t27_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t27
  let v3026 : BitVec 32 := Scalar.addi v2976 arg46
  let v3082 : Index := Scalar.indexCast v3026
  let c176_1457 : Index := 176#32
  ![v3082.toNat, 176]
def k1_off359 (v400 : BitVec 32) (v402 : BitVec 32) (k1_t26 : Fin (k1_t26_loop v400 v402).trips) (k1_t27 : Fin (k1_t27_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t27
  let v3026 : BitVec 32 := Scalar.addi v2976 arg46
  let v3087 : Index := Scalar.indexCast v3026
  let c192_1458 : Index := 192#32
  ![v3087.toNat, 192]
def k1_off360 (v400 : BitVec 32) (v402 : BitVec 32) (k1_t26 : Fin (k1_t26_loop v400 v402).trips) (k1_t27 : Fin (k1_t27_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t27
  let v3026 : BitVec 32 := Scalar.addi v2976 arg46
  let v3092 : Index := Scalar.indexCast v3026
  let c208_1459 : Index := 208#32
  ![v3092.toNat, 208]
def k1_off361 (v400 : BitVec 32) (v402 : BitVec 32) (k1_t26 : Fin (k1_t26_loop v400 v402).trips) (k1_t27 : Fin (k1_t27_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t27
  let v3026 : BitVec 32 := Scalar.addi v2976 arg46
  let v3097 : Index := Scalar.indexCast v3026
  let c224_1460 : Index := 224#32
  ![v3097.toNat, 224]
def k1_off362 (v400 : BitVec 32) (v402 : BitVec 32) (k1_t26 : Fin (k1_t26_loop v400 v402).trips) (k1_t27 : Fin (k1_t27_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t27
  let v3026 : BitVec 32 := Scalar.addi v2976 arg46
  let v3102 : Index := Scalar.indexCast v3026
  let c240_1461 : Index := 240#32
  ![v3102.toNat, 240]
@[reducible] def k1_t28_loop (v400 : BitVec 32) (v402 : BitVec 32) (k1_t26 : Fin (k1_t26_loop v400 v402).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off363 (v400 : BitVec 32) (v402 : BitVec 32) (k1_t26 : Fin (k1_t26_loop v400 v402).trips) (k1_t28 : Fin (k1_t28_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t28
  let v3026 : BitVec 32 := Scalar.addi v2976 arg46
  let v3027 : Index := Scalar.indexCast v3026
  let c0_1446 : Index := 0#32
  ![v3027.toNat, 0]
def k1_off364 (v400 : BitVec 32) (v402 : BitVec 32) (k1_t26 : Fin (k1_t26_loop v400 v402).trips) (k1_t28 : Fin (k1_t28_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t28
  let v3026 : BitVec 32 := Scalar.addi v2976 arg46
  let v3032 : Index := Scalar.indexCast v3026
  let c16_1447 : Index := 16#32
  ![v3032.toNat, 16]
def k1_off365 (v400 : BitVec 32) (v402 : BitVec 32) (k1_t26 : Fin (k1_t26_loop v400 v402).trips) (k1_t28 : Fin (k1_t28_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t28
  let v3026 : BitVec 32 := Scalar.addi v2976 arg46
  let v3037 : Index := Scalar.indexCast v3026
  let c32_1448 : Index := 32#32
  ![v3037.toNat, 32]
def k1_off366 (v400 : BitVec 32) (v402 : BitVec 32) (k1_t26 : Fin (k1_t26_loop v400 v402).trips) (k1_t28 : Fin (k1_t28_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t28
  let v3026 : BitVec 32 := Scalar.addi v2976 arg46
  let v3042 : Index := Scalar.indexCast v3026
  let c48_1449 : Index := 48#32
  ![v3042.toNat, 48]
def k1_off367 (v400 : BitVec 32) (v402 : BitVec 32) (k1_t26 : Fin (k1_t26_loop v400 v402).trips) (k1_t28 : Fin (k1_t28_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t28
  let v3026 : BitVec 32 := Scalar.addi v2976 arg46
  let v3047 : Index := Scalar.indexCast v3026
  let c64_1450 : Index := 64#32
  ![v3047.toNat, 64]
def k1_off368 (v400 : BitVec 32) (v402 : BitVec 32) (k1_t26 : Fin (k1_t26_loop v400 v402).trips) (k1_t28 : Fin (k1_t28_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t28
  let v3026 : BitVec 32 := Scalar.addi v2976 arg46
  let v3052 : Index := Scalar.indexCast v3026
  let c80_1451 : Index := 80#32
  ![v3052.toNat, 80]
def k1_off369 (v400 : BitVec 32) (v402 : BitVec 32) (k1_t26 : Fin (k1_t26_loop v400 v402).trips) (k1_t28 : Fin (k1_t28_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t28
  let v3026 : BitVec 32 := Scalar.addi v2976 arg46
  let v3057 : Index := Scalar.indexCast v3026
  let c96_1452 : Index := 96#32
  ![v3057.toNat, 96]
def k1_off370 (v400 : BitVec 32) (v402 : BitVec 32) (k1_t26 : Fin (k1_t26_loop v400 v402).trips) (k1_t28 : Fin (k1_t28_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t28
  let v3026 : BitVec 32 := Scalar.addi v2976 arg46
  let v3062 : Index := Scalar.indexCast v3026
  let c112_1453 : Index := 112#32
  ![v3062.toNat, 112]
def k1_off371 (v400 : BitVec 32) (v402 : BitVec 32) (k1_t26 : Fin (k1_t26_loop v400 v402).trips) (k1_t28 : Fin (k1_t28_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t28
  let v3026 : BitVec 32 := Scalar.addi v2976 arg46
  let v3067 : Index := Scalar.indexCast v3026
  let c128_1454 : Index := 128#32
  ![v3067.toNat, 128]
def k1_off372 (v400 : BitVec 32) (v402 : BitVec 32) (k1_t26 : Fin (k1_t26_loop v400 v402).trips) (k1_t28 : Fin (k1_t28_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t28
  let v3026 : BitVec 32 := Scalar.addi v2976 arg46
  let v3072 : Index := Scalar.indexCast v3026
  let c144_1455 : Index := 144#32
  ![v3072.toNat, 144]
def k1_off373 (v400 : BitVec 32) (v402 : BitVec 32) (k1_t26 : Fin (k1_t26_loop v400 v402).trips) (k1_t28 : Fin (k1_t28_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t28
  let v3026 : BitVec 32 := Scalar.addi v2976 arg46
  let v3077 : Index := Scalar.indexCast v3026
  let c160_1456 : Index := 160#32
  ![v3077.toNat, 160]
def k1_off374 (v400 : BitVec 32) (v402 : BitVec 32) (k1_t26 : Fin (k1_t26_loop v400 v402).trips) (k1_t28 : Fin (k1_t28_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t28
  let v3026 : BitVec 32 := Scalar.addi v2976 arg46
  let v3082 : Index := Scalar.indexCast v3026
  let c176_1457 : Index := 176#32
  ![v3082.toNat, 176]
def k1_off375 (v400 : BitVec 32) (v402 : BitVec 32) (k1_t26 : Fin (k1_t26_loop v400 v402).trips) (k1_t28 : Fin (k1_t28_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t28
  let v3026 : BitVec 32 := Scalar.addi v2976 arg46
  let v3087 : Index := Scalar.indexCast v3026
  let c192_1458 : Index := 192#32
  ![v3087.toNat, 192]
def k1_off376 (v400 : BitVec 32) (v402 : BitVec 32) (k1_t26 : Fin (k1_t26_loop v400 v402).trips) (k1_t28 : Fin (k1_t28_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t28
  let v3026 : BitVec 32 := Scalar.addi v2976 arg46
  let v3092 : Index := Scalar.indexCast v3026
  let c208_1459 : Index := 208#32
  ![v3092.toNat, 208]
def k1_off377 (v400 : BitVec 32) (v402 : BitVec 32) (k1_t26 : Fin (k1_t26_loop v400 v402).trips) (k1_t28 : Fin (k1_t28_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t28
  let v3026 : BitVec 32 := Scalar.addi v2976 arg46
  let v3097 : Index := Scalar.indexCast v3026
  let c224_1460 : Index := 224#32
  ![v3097.toNat, 224]
def k1_off378 (v400 : BitVec 32) (v402 : BitVec 32) (k1_t26 : Fin (k1_t26_loop v400 v402).trips) (k1_t28 : Fin (k1_t28_loop v400 v402 k1_t26).trips) : Fin 2 → Nat :=
  let c2_i32_1408 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2949 : BitVec 32 := Scalar.muli c2_i32_1408 arg13
  let c64_i32_1410 : BitVec 32 := 64#32
  let v2953 : BitVec 32 := Scalar.muli v2949 c64_i32_1410
  let v2954 : BitVec 32 := Scalar.addi v400 v2953
  let c64_i32_1411 : BitVec 32 := 64#32
  let v2955 : BitVec 32 := Scalar.muli v2949 c64_i32_1411
  let v2956 : BitVec 32 := Scalar.addi v400 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v402 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t28
  let v3026 : BitVec 32 := Scalar.addi v2976 arg46
  let v3102 : Index := Scalar.indexCast v3026
  let c240_1461 : Index := 240#32
  ![v3102.toNat, 240]
def k1_off379 (i : grid1.Coords) (v400 : BitVec 32) (v402 : BitVec 32) (k1_t26 : Fin (k1_t26_loop v400 v402).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v400 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond26 (v400 : BitVec 32) (v402 : BitVec 32) (k1_t26 : Fin (k1_t26_loop v400 v402).trips) : BitVec 1 :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let v2989 : BitVec 1 := Scalar.cmpi .slt v2988 v424
  let v2990 : BitVec 32 := Scalar.extui v2989
  let c0_i32_1428 : BitVec 32 := 0#32
  let v2991 : BitVec 1 := Scalar.cmpi .ne v2990 c0_i32_1428
  v2991

def k1_off380 (i : grid1.Coords) (v400 : BitVec 32) (v402 : BitVec 32) (k1_t26 : Fin (k1_t26_loop v400 v402).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v400 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond27 (v400 : BitVec 32) (v402 : BitVec 32) (k1_t26 : Fin (k1_t26_loop v400 v402).trips) : BitVec 1 :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v3050 : BitVec 1 := Scalar.cmpi .slt v3049 v424
  let v3051 : BitVec 32 := Scalar.extui v3050
  let c0_i32_1457 : BitVec 32 := 0#32
  let v3052 : BitVec 1 := Scalar.cmpi .ne v3051 c0_i32_1457
  v3052

@[reducible] def k1_t29_loop (v400 : BitVec 32) (v402 : BitVec 32) (k1_t26 : Fin (k1_t26_loop v400 v402).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off381 (v400 : BitVec 32) (v402 : BitVec 32) (k1_t26 : Fin (k1_t26_loop v400 v402).trips) (k1_t29 : Fin (k1_t29_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t29
  let v3026 : BitVec 32 := Scalar.addi v3015 arg46
  let v3027 : Index := Scalar.indexCast v3026
  let c0_1446 : Index := 0#32
  ![v3027.toNat, 0]
def k1_off382 (v400 : BitVec 32) (v402 : BitVec 32) (k1_t26 : Fin (k1_t26_loop v400 v402).trips) (k1_t29 : Fin (k1_t29_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t29
  let v3026 : BitVec 32 := Scalar.addi v3015 arg46
  let v3032 : Index := Scalar.indexCast v3026
  let c16_1447 : Index := 16#32
  ![v3032.toNat, 16]
def k1_off383 (v400 : BitVec 32) (v402 : BitVec 32) (k1_t26 : Fin (k1_t26_loop v400 v402).trips) (k1_t29 : Fin (k1_t29_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t29
  let v3026 : BitVec 32 := Scalar.addi v3015 arg46
  let v3037 : Index := Scalar.indexCast v3026
  let c32_1448 : Index := 32#32
  ![v3037.toNat, 32]
def k1_off384 (v400 : BitVec 32) (v402 : BitVec 32) (k1_t26 : Fin (k1_t26_loop v400 v402).trips) (k1_t29 : Fin (k1_t29_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t29
  let v3026 : BitVec 32 := Scalar.addi v3015 arg46
  let v3042 : Index := Scalar.indexCast v3026
  let c48_1449 : Index := 48#32
  ![v3042.toNat, 48]
def k1_off385 (v400 : BitVec 32) (v402 : BitVec 32) (k1_t26 : Fin (k1_t26_loop v400 v402).trips) (k1_t29 : Fin (k1_t29_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t29
  let v3026 : BitVec 32 := Scalar.addi v3015 arg46
  let v3047 : Index := Scalar.indexCast v3026
  let c64_1450 : Index := 64#32
  ![v3047.toNat, 64]
def k1_off386 (v400 : BitVec 32) (v402 : BitVec 32) (k1_t26 : Fin (k1_t26_loop v400 v402).trips) (k1_t29 : Fin (k1_t29_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t29
  let v3026 : BitVec 32 := Scalar.addi v3015 arg46
  let v3052 : Index := Scalar.indexCast v3026
  let c80_1451 : Index := 80#32
  ![v3052.toNat, 80]
def k1_off387 (v400 : BitVec 32) (v402 : BitVec 32) (k1_t26 : Fin (k1_t26_loop v400 v402).trips) (k1_t29 : Fin (k1_t29_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t29
  let v3026 : BitVec 32 := Scalar.addi v3015 arg46
  let v3057 : Index := Scalar.indexCast v3026
  let c96_1452 : Index := 96#32
  ![v3057.toNat, 96]
def k1_off388 (v400 : BitVec 32) (v402 : BitVec 32) (k1_t26 : Fin (k1_t26_loop v400 v402).trips) (k1_t29 : Fin (k1_t29_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t29
  let v3026 : BitVec 32 := Scalar.addi v3015 arg46
  let v3062 : Index := Scalar.indexCast v3026
  let c112_1453 : Index := 112#32
  ![v3062.toNat, 112]
def k1_off389 (v400 : BitVec 32) (v402 : BitVec 32) (k1_t26 : Fin (k1_t26_loop v400 v402).trips) (k1_t29 : Fin (k1_t29_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t29
  let v3026 : BitVec 32 := Scalar.addi v3015 arg46
  let v3067 : Index := Scalar.indexCast v3026
  let c128_1454 : Index := 128#32
  ![v3067.toNat, 128]
def k1_off390 (v400 : BitVec 32) (v402 : BitVec 32) (k1_t26 : Fin (k1_t26_loop v400 v402).trips) (k1_t29 : Fin (k1_t29_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t29
  let v3026 : BitVec 32 := Scalar.addi v3015 arg46
  let v3072 : Index := Scalar.indexCast v3026
  let c144_1455 : Index := 144#32
  ![v3072.toNat, 144]
def k1_off391 (v400 : BitVec 32) (v402 : BitVec 32) (k1_t26 : Fin (k1_t26_loop v400 v402).trips) (k1_t29 : Fin (k1_t29_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t29
  let v3026 : BitVec 32 := Scalar.addi v3015 arg46
  let v3077 : Index := Scalar.indexCast v3026
  let c160_1456 : Index := 160#32
  ![v3077.toNat, 160]
def k1_off392 (v400 : BitVec 32) (v402 : BitVec 32) (k1_t26 : Fin (k1_t26_loop v400 v402).trips) (k1_t29 : Fin (k1_t29_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t29
  let v3026 : BitVec 32 := Scalar.addi v3015 arg46
  let v3082 : Index := Scalar.indexCast v3026
  let c176_1457 : Index := 176#32
  ![v3082.toNat, 176]
def k1_off393 (v400 : BitVec 32) (v402 : BitVec 32) (k1_t26 : Fin (k1_t26_loop v400 v402).trips) (k1_t29 : Fin (k1_t29_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t29
  let v3026 : BitVec 32 := Scalar.addi v3015 arg46
  let v3087 : Index := Scalar.indexCast v3026
  let c192_1458 : Index := 192#32
  ![v3087.toNat, 192]
def k1_off394 (v400 : BitVec 32) (v402 : BitVec 32) (k1_t26 : Fin (k1_t26_loop v400 v402).trips) (k1_t29 : Fin (k1_t29_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t29
  let v3026 : BitVec 32 := Scalar.addi v3015 arg46
  let v3092 : Index := Scalar.indexCast v3026
  let c208_1459 : Index := 208#32
  ![v3092.toNat, 208]
def k1_off395 (v400 : BitVec 32) (v402 : BitVec 32) (k1_t26 : Fin (k1_t26_loop v400 v402).trips) (k1_t29 : Fin (k1_t29_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t29
  let v3026 : BitVec 32 := Scalar.addi v3015 arg46
  let v3097 : Index := Scalar.indexCast v3026
  let c224_1460 : Index := 224#32
  ![v3097.toNat, 224]
def k1_off396 (v400 : BitVec 32) (v402 : BitVec 32) (k1_t26 : Fin (k1_t26_loop v400 v402).trips) (k1_t29 : Fin (k1_t29_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t29
  let v3026 : BitVec 32 := Scalar.addi v3015 arg46
  let v3102 : Index := Scalar.indexCast v3026
  let c240_1461 : Index := 240#32
  ![v3102.toNat, 240]
@[reducible] def k1_t30_loop (v400 : BitVec 32) (v402 : BitVec 32) (k1_t26 : Fin (k1_t26_loop v400 v402).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off397 (v400 : BitVec 32) (v402 : BitVec 32) (k1_t26 : Fin (k1_t26_loop v400 v402).trips) (k1_t30 : Fin (k1_t30_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t30
  let v3026 : BitVec 32 := Scalar.addi v3015 arg46
  let v3027 : Index := Scalar.indexCast v3026
  let c0_1446 : Index := 0#32
  ![v3027.toNat, 0]
def k1_off398 (v400 : BitVec 32) (v402 : BitVec 32) (k1_t26 : Fin (k1_t26_loop v400 v402).trips) (k1_t30 : Fin (k1_t30_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t30
  let v3026 : BitVec 32 := Scalar.addi v3015 arg46
  let v3032 : Index := Scalar.indexCast v3026
  let c16_1447 : Index := 16#32
  ![v3032.toNat, 16]

variable {F : FTy → Type} [FloatOps F]

def k1_off399 (v400 : BitVec 32) (v402 : BitVec 32) (k1_t26 : Fin (k1_t26_loop v400 v402).trips) (k1_t30 : Fin (k1_t30_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t30
  let v3026 : BitVec 32 := Scalar.addi v3015 arg46
  let v3037 : Index := Scalar.indexCast v3026
  let c32_1448 : Index := 32#32
  ![v3037.toNat, 32]
def k1_off400 (v400 : BitVec 32) (v402 : BitVec 32) (k1_t26 : Fin (k1_t26_loop v400 v402).trips) (k1_t30 : Fin (k1_t30_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t30
  let v3026 : BitVec 32 := Scalar.addi v3015 arg46
  let v3042 : Index := Scalar.indexCast v3026
  let c48_1449 : Index := 48#32
  ![v3042.toNat, 48]
def k1_off401 (v400 : BitVec 32) (v402 : BitVec 32) (k1_t26 : Fin (k1_t26_loop v400 v402).trips) (k1_t30 : Fin (k1_t30_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t30
  let v3026 : BitVec 32 := Scalar.addi v3015 arg46
  let v3047 : Index := Scalar.indexCast v3026
  let c64_1450 : Index := 64#32
  ![v3047.toNat, 64]
def k1_off402 (v400 : BitVec 32) (v402 : BitVec 32) (k1_t26 : Fin (k1_t26_loop v400 v402).trips) (k1_t30 : Fin (k1_t30_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t30
  let v3026 : BitVec 32 := Scalar.addi v3015 arg46
  let v3052 : Index := Scalar.indexCast v3026
  let c80_1451 : Index := 80#32
  ![v3052.toNat, 80]
def k1_off403 (v400 : BitVec 32) (v402 : BitVec 32) (k1_t26 : Fin (k1_t26_loop v400 v402).trips) (k1_t30 : Fin (k1_t30_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t30
  let v3026 : BitVec 32 := Scalar.addi v3015 arg46
  let v3057 : Index := Scalar.indexCast v3026
  let c96_1452 : Index := 96#32
  ![v3057.toNat, 96]
def k1_off404 (v400 : BitVec 32) (v402 : BitVec 32) (k1_t26 : Fin (k1_t26_loop v400 v402).trips) (k1_t30 : Fin (k1_t30_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t30
  let v3026 : BitVec 32 := Scalar.addi v3015 arg46
  let v3062 : Index := Scalar.indexCast v3026
  let c112_1453 : Index := 112#32
  ![v3062.toNat, 112]
def k1_off405 (v400 : BitVec 32) (v402 : BitVec 32) (k1_t26 : Fin (k1_t26_loop v400 v402).trips) (k1_t30 : Fin (k1_t30_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t30
  let v3026 : BitVec 32 := Scalar.addi v3015 arg46
  let v3067 : Index := Scalar.indexCast v3026
  let c128_1454 : Index := 128#32
  ![v3067.toNat, 128]
def k1_off406 (v400 : BitVec 32) (v402 : BitVec 32) (k1_t26 : Fin (k1_t26_loop v400 v402).trips) (k1_t30 : Fin (k1_t30_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t30
  let v3026 : BitVec 32 := Scalar.addi v3015 arg46
  let v3072 : Index := Scalar.indexCast v3026
  let c144_1455 : Index := 144#32
  ![v3072.toNat, 144]
def k1_off407 (v400 : BitVec 32) (v402 : BitVec 32) (k1_t26 : Fin (k1_t26_loop v400 v402).trips) (k1_t30 : Fin (k1_t30_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t30
  let v3026 : BitVec 32 := Scalar.addi v3015 arg46
  let v3077 : Index := Scalar.indexCast v3026
  let c160_1456 : Index := 160#32
  ![v3077.toNat, 160]
def k1_off408 (v400 : BitVec 32) (v402 : BitVec 32) (k1_t26 : Fin (k1_t26_loop v400 v402).trips) (k1_t30 : Fin (k1_t30_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t30
  let v3026 : BitVec 32 := Scalar.addi v3015 arg46
  let v3082 : Index := Scalar.indexCast v3026
  let c176_1457 : Index := 176#32
  ![v3082.toNat, 176]
def k1_off409 (v400 : BitVec 32) (v402 : BitVec 32) (k1_t26 : Fin (k1_t26_loop v400 v402).trips) (k1_t30 : Fin (k1_t30_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t30
  let v3026 : BitVec 32 := Scalar.addi v3015 arg46
  let v3087 : Index := Scalar.indexCast v3026
  let c192_1458 : Index := 192#32
  ![v3087.toNat, 192]
def k1_off410 (v400 : BitVec 32) (v402 : BitVec 32) (k1_t26 : Fin (k1_t26_loop v400 v402).trips) (k1_t30 : Fin (k1_t30_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t30
  let v3026 : BitVec 32 := Scalar.addi v3015 arg46
  let v3092 : Index := Scalar.indexCast v3026
  let c208_1459 : Index := 208#32
  ![v3092.toNat, 208]
def k1_off411 (v400 : BitVec 32) (v402 : BitVec 32) (k1_t26 : Fin (k1_t26_loop v400 v402).trips) (k1_t30 : Fin (k1_t30_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t30
  let v3026 : BitVec 32 := Scalar.addi v3015 arg46
  let v3097 : Index := Scalar.indexCast v3026
  let c224_1460 : Index := 224#32
  ![v3097.toNat, 224]
def k1_off412 (v400 : BitVec 32) (v402 : BitVec 32) (k1_t26 : Fin (k1_t26_loop v400 v402).trips) (k1_t30 : Fin (k1_t30_loop v400 v402 k1_t26).trips) : Fin 2 → Nat :=
  let c2_i32_1426 : BitVec 32 := 2#32
  let c0_i32_194 : BitVec 32 := 0#32
  let v405 : BitVec 32 := Scalar.subi v402 v400
  let c64_i32_175 : BitVec 32 := 64#32
  let v406 : BitVec 32 := Scalar.addi v405 c64_i32_175
  let c1_i32_176 : BitVec 32 := 1#32
  let v407 : BitVec 32 := Scalar.subi v406 c1_i32_176
  let c0_i32_178 : BitVec 32 := 0#32
  let v409 : BitVec 1 := Scalar.cmpi .sgt v407 c0_i32_178
  let v410 : BitVec 32 := Scalar.extui v409
  let c0_i32_179 : BitVec 32 := 0#32
  let v411 : BitVec 1 := Scalar.cmpi .slt v407 c0_i32_179
  let v412 : BitVec 32 := Scalar.extui v411
  let v413 : BitVec 32 := Scalar.subi v410 v412
  let c64_i32_177 : BitVec 32 := 64#32
  let c0_i32_180 : BitVec 32 := 0#32
  let v414 : BitVec 1 := Scalar.cmpi .sgt c64_i32_177 c0_i32_180
  let v415 : BitVec 32 := Scalar.extui v414
  let c0_i32_181 : BitVec 32 := 0#32
  let v416 : BitVec 1 := Scalar.cmpi .slt c64_i32_177 c0_i32_181
  let v417 : BitVec 32 := Scalar.extui v416
  let v418 : BitVec 32 := Scalar.subi v415 v417
  let v419 : BitVec 1 := Scalar.cmpi .ne v413 v418
  let v420 : BitVec 32 := Scalar.remsi v407 c64_i32_177
  let c0_i32_182 : BitVec 32 := 0#32
  let v421 : BitVec 1 := Scalar.cmpi .ne v420 c0_i32_182
  let v422 : BitVec 1 := Scalar.andi v419 v421
  let v408 : BitVec 32 := Scalar.divsi v407 c64_i32_177
  let c1_i32_183 : BitVec 32 := 1#32
  let v423 : BitVec 32 := Scalar.subi v408 c1_i32_183
  let v424 : BitVec 32 := Scalar.select v422 v423 v408
  let c1_i32_186 : BitVec 32 := 1#32
  let v428 : BitVec 32 := Scalar.addi v424 c1_i32_186
  let c0_i32_188 : BitVec 32 := 0#32
  let v430 : BitVec 1 := Scalar.cmpi .sgt v428 c0_i32_188
  let v431 : BitVec 32 := Scalar.extui v430
  let c0_i32_189 : BitVec 32 := 0#32
  let v432 : BitVec 1 := Scalar.cmpi .slt v428 c0_i32_189
  let v433 : BitVec 32 := Scalar.extui v432
  let v434 : BitVec 32 := Scalar.subi v431 v433
  let c2_i32_187 : BitVec 32 := 2#32
  let c0_i32_190 : BitVec 32 := 0#32
  let v435 : BitVec 1 := Scalar.cmpi .sgt c2_i32_187 c0_i32_190
  let v436 : BitVec 32 := Scalar.extui v435
  let c0_i32_191 : BitVec 32 := 0#32
  let v437 : BitVec 1 := Scalar.cmpi .slt c2_i32_187 c0_i32_191
  let v438 : BitVec 32 := Scalar.extui v437
  let v439 : BitVec 32 := Scalar.subi v436 v438
  let v440 : BitVec 1 := Scalar.cmpi .ne v434 v439
  let v441 : BitVec 32 := Scalar.remsi v428 c2_i32_187
  let c0_i32_192 : BitVec 32 := 0#32
  let v442 : BitVec 1 := Scalar.cmpi .ne v441 c0_i32_192
  let v443 : BitVec 1 := Scalar.andi v440 v442
  let v429 : BitVec 32 := Scalar.divsi v428 c2_i32_187
  let c1_i32_193 : BitVec 32 := 1#32
  let v444 : BitVec 32 := Scalar.subi v429 c1_i32_193
  let v445 : BitVec 32 := Scalar.select v443 v444 v429
  let v446 : BitVec 32 := Scalar.subi v445 c0_i32_194
  let c1_i32_195 : BitVec 32 := 1#32
  let v448 : BitVec 32 := Scalar.divsi v446 c1_i32_195
  let v449 : BitVec 32 := Scalar.muli v448 c1_i32_195
  let v450 : BitVec 32 := Scalar.addi c0_i32_194 v449
  let c1_i32_197 : BitVec 32 := 1#32
  let arg13 : BitVec 32 := Scf.iv v450 c1_i32_197 k1_t26
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v400 v2992
  let c64_i32_1430 : BitVec 32 := 64#32
  let v2994 : BitVec 32 := Scalar.muli v2988 c64_i32_1430
  let v2995 : BitVec 32 := Scalar.addi v400 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v402 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t30
  let v3026 : BitVec 32 := Scalar.addi v3015 arg46
  let v3102 : Index := Scalar.indexCast v3026
  let c240_1461 : Index := 240#32
  ![v3102.toNat, 240]

def k1_chk3_0 (i : grid1.Coords) (v400 : BitVec 32) (v402 : BitVec 32) : Prop :=
  (∀ (k1_h19 : k1_cond19 v400 v402 = 1#1), ∀ a, (k1_off276 i v400) a + S72x256.size a ≤ S100000x512.size a) ∧
  ((k1_t21_loop v400 v402).OK) ∧
  (∀ k1_t21 : Fin (k1_t21_loop v400 v402).trips, ∀ (k1_h20 : k1_cond20 v400 v402 k1_t21 = 1#1), ∀ a, (k1_off277 i v400 v402 k1_t21) a + S72x256.size a ≤ S100000x512.size a) ∧
  (∀ k1_t21 : Fin (k1_t21_loop v400 v402).trips, ∀ (k1_h20 : k1_cond20 v400 v402 k1_t21 = 1#1), ∀ (k1_h21 : k1_cond21 v400 v402 k1_t21 = 1#1), ∀ a, (k1_off278 i v400 v402 k1_t21) a + S72x256.size a ≤ S100000x512.size a) ∧
  (∀ k1_t21 : Fin (k1_t21_loop v400 v402).trips, (k1_t22_loop v400 v402 k1_t21).OK) ∧
  (∀ (k1_t21 : Fin (k1_t21_loop v400 v402).trips) (k1_t22 : Fin (k1_t22_loop v400 v402 k1_t21).trips), ∀ a, (k1_off279 v400 v402 k1_t21 k1_t22) a + S1x16.size a ≤ S72x256.size a) ∧
  (∀ (k1_t21 : Fin (k1_t21_loop v400 v402).trips) (k1_t22 : Fin (k1_t22_loop v400 v402 k1_t21).trips), ∀ a, (k1_off280 v400 v402 k1_t21 k1_t22) a + S1x16.size a ≤ S72x256.size a) ∧
  (∀ (k1_t21 : Fin (k1_t21_loop v400 v402).trips) (k1_t22 : Fin (k1_t22_loop v400 v402 k1_t21).trips), ∀ a, (k1_off281 v400 v402 k1_t21 k1_t22) a + S1x16.size a ≤ S72x256.size a) ∧
  (∀ (k1_t21 : Fin (k1_t21_loop v400 v402).trips) (k1_t22 : Fin (k1_t22_loop v400 v402 k1_t21).trips), ∀ a, (k1_off282 v400 v402 k1_t21 k1_t22) a + S1x16.size a ≤ S72x256.size a) ∧
  (∀ (k1_t21 : Fin (k1_t21_loop v400 v402).trips) (k1_t22 : Fin (k1_t22_loop v400 v402 k1_t21).trips), ∀ a, (k1_off283 v400 v402 k1_t21 k1_t22) a + S1x16.size a ≤ S72x256.size a) ∧
  (∀ (k1_t21 : Fin (k1_t21_loop v400 v402).trips) (k1_t22 : Fin (k1_t22_loop v400 v402 k1_t21).trips), ∀ a, (k1_off284 v400 v402 k1_t21 k1_t22) a + S1x16.size a ≤ S72x256.size a) ∧
  (∀ (k1_t21 : Fin (k1_t21_loop v400 v402).trips) (k1_t22 : Fin (k1_t22_loop v400 v402 k1_t21).trips), ∀ a, (k1_off285 v400 v402 k1_t21 k1_t22) a + S1x16.size a ≤ S72x256.size a) ∧
  (∀ (k1_t21 : Fin (k1_t21_loop v400 v402).trips) (k1_t22 : Fin (k1_t22_loop v400 v402 k1_t21).trips), ∀ a, (k1_off286 v400 v402 k1_t21 k1_t22) a + S1x16.size a ≤ S72x256.size a) ∧
  (∀ (k1_t21 : Fin (k1_t21_loop v400 v402).trips) (k1_t22 : Fin (k1_t22_loop v400 v402 k1_t21).trips), ∀ a, (k1_off287 v400 v402 k1_t21 k1_t22) a + S1x16.size a ≤ S72x256.size a) ∧
  (∀ (k1_t21 : Fin (k1_t21_loop v400 v402).trips) (k1_t22 : Fin (k1_t22_loop v400 v402 k1_t21).trips), ∀ a, (k1_off288 v400 v402 k1_t21 k1_t22) a + S1x16.size a ≤ S72x256.size a) ∧
  (∀ (k1_t21 : Fin (k1_t21_loop v400 v402).trips) (k1_t22 : Fin (k1_t22_loop v400 v402 k1_t21).trips), ∀ a, (k1_off289 v400 v402 k1_t21 k1_t22) a + S1x16.size a ≤ S72x256.size a) ∧
  (∀ (k1_t21 : Fin (k1_t21_loop v400 v402).trips) (k1_t22 : Fin (k1_t22_loop v400 v402 k1_t21).trips), ∀ a, (k1_off290 v400 v402 k1_t21 k1_t22) a + S1x16.size a ≤ S72x256.size a) ∧
  (∀ (k1_t21 : Fin (k1_t21_loop v400 v402).trips) (k1_t22 : Fin (k1_t22_loop v400 v402 k1_t21).trips), ∀ a, (k1_off291 v400 v402 k1_t21 k1_t22) a + S1x16.size a ≤ S72x256.size a) ∧
  (∀ (k1_t21 : Fin (k1_t21_loop v400 v402).trips) (k1_t22 : Fin (k1_t22_loop v400 v402 k1_t21).trips), ∀ a, (k1_off292 v400 v402 k1_t21 k1_t22) a + S1x16.size a ≤ S72x256.size a) ∧
  (∀ (k1_t21 : Fin (k1_t21_loop v400 v402).trips) (k1_t22 : Fin (k1_t22_loop v400 v402 k1_t21).trips), ∀ a, (k1_off293 v400 v402 k1_t21 k1_t22) a + S1x16.size a ≤ S72x256.size a) ∧
  (∀ (k1_t21 : Fin (k1_t21_loop v400 v402).trips) (k1_t22 : Fin (k1_t22_loop v400 v402 k1_t21).trips), ∀ a, (k1_off294 v400 v402 k1_t21 k1_t22) a + S1x16.size a ≤ S72x256.size a) ∧
  (∀ k1_t21 : Fin (k1_t21_loop v400 v402).trips, (k1_t23_loop v400 v402 k1_t21).OK) ∧
  (∀ (k1_t21 : Fin (k1_t21_loop v400 v402).trips) (k1_t23 : Fin (k1_t23_loop v400 v402 k1_t21).trips), ∀ a, (k1_off295 v400 v402 k1_t21 k1_t23) a + S1x16.size a ≤ S72x256.size a) ∧
  (∀ (k1_t21 : Fin (k1_t21_loop v400 v402).trips) (k1_t23 : Fin (k1_t23_loop v400 v402 k1_t21).trips), ∀ a, (k1_off296 v400 v402 k1_t21 k1_t23) a + S1x16.size a ≤ S72x256.size a) ∧
  (∀ (k1_t21 : Fin (k1_t21_loop v400 v402).trips) (k1_t23 : Fin (k1_t23_loop v400 v402 k1_t21).trips), ∀ a, (k1_off297 v400 v402 k1_t21 k1_t23) a + S1x16.size a ≤ S72x256.size a) ∧
  (∀ (k1_t21 : Fin (k1_t21_loop v400 v402).trips) (k1_t23 : Fin (k1_t23_loop v400 v402 k1_t21).trips), ∀ a, (k1_off298 v400 v402 k1_t21 k1_t23) a + S1x16.size a ≤ S72x256.size a) ∧
  (∀ (k1_t21 : Fin (k1_t21_loop v400 v402).trips) (k1_t23 : Fin (k1_t23_loop v400 v402 k1_t21).trips), ∀ a, (k1_off299 v400 v402 k1_t21 k1_t23) a + S1x16.size a ≤ S72x256.size a) ∧
  (∀ (k1_t21 : Fin (k1_t21_loop v400 v402).trips) (k1_t23 : Fin (k1_t23_loop v400 v402 k1_t21).trips), ∀ a, (k1_off300 v400 v402 k1_t21 k1_t23) a + S1x16.size a ≤ S72x256.size a) ∧
  (∀ (k1_t21 : Fin (k1_t21_loop v400 v402).trips) (k1_t23 : Fin (k1_t23_loop v400 v402 k1_t21).trips), ∀ a, (k1_off301 v400 v402 k1_t21 k1_t23) a + S1x16.size a ≤ S72x256.size a) ∧
  (∀ (k1_t21 : Fin (k1_t21_loop v400 v402).trips) (k1_t23 : Fin (k1_t23_loop v400 v402 k1_t21).trips), ∀ a, (k1_off302 v400 v402 k1_t21 k1_t23) a + S1x16.size a ≤ S72x256.size a) ∧
  (∀ (k1_t21 : Fin (k1_t21_loop v400 v402).trips) (k1_t23 : Fin (k1_t23_loop v400 v402 k1_t21).trips), ∀ a, (k1_off303 v400 v402 k1_t21 k1_t23) a + S1x16.size a ≤ S72x256.size a) ∧
  (∀ (k1_t21 : Fin (k1_t21_loop v400 v402).trips) (k1_t23 : Fin (k1_t23_loop v400 v402 k1_t21).trips), ∀ a, (k1_off304 v400 v402 k1_t21 k1_t23) a + S1x16.size a ≤ S72x256.size a)
def k1_chk3_1 (i : grid1.Coords) (v400 : BitVec 32) (v402 : BitVec 32) : Prop :=
  (∀ (k1_t21 : Fin (k1_t21_loop v400 v402).trips) (k1_t23 : Fin (k1_t23_loop v400 v402 k1_t21).trips), ∀ a, (k1_off305 v400 v402 k1_t21 k1_t23) a + S1x16.size a ≤ S72x256.size a) ∧
  (∀ (k1_t21 : Fin (k1_t21_loop v400 v402).trips) (k1_t23 : Fin (k1_t23_loop v400 v402 k1_t21).trips), ∀ a, (k1_off306 v400 v402 k1_t21 k1_t23) a + S1x16.size a ≤ S72x256.size a) ∧
  (∀ (k1_t21 : Fin (k1_t21_loop v400 v402).trips) (k1_t23 : Fin (k1_t23_loop v400 v402 k1_t21).trips), ∀ a, (k1_off307 v400 v402 k1_t21 k1_t23) a + S1x16.size a ≤ S72x256.size a) ∧
  (∀ (k1_t21 : Fin (k1_t21_loop v400 v402).trips) (k1_t23 : Fin (k1_t23_loop v400 v402 k1_t21).trips), ∀ a, (k1_off308 v400 v402 k1_t21 k1_t23) a + S1x16.size a ≤ S72x256.size a) ∧
  (∀ (k1_t21 : Fin (k1_t21_loop v400 v402).trips) (k1_t23 : Fin (k1_t23_loop v400 v402 k1_t21).trips), ∀ a, (k1_off309 v400 v402 k1_t21 k1_t23) a + S1x16.size a ≤ S72x256.size a) ∧
  (∀ (k1_t21 : Fin (k1_t21_loop v400 v402).trips) (k1_t23 : Fin (k1_t23_loop v400 v402 k1_t21).trips), ∀ a, (k1_off310 v400 v402 k1_t21 k1_t23) a + S1x16.size a ≤ S72x256.size a) ∧
  (∀ k1_t21 : Fin (k1_t21_loop v400 v402).trips, ∀ (k1_h22 : k1_cond22 v400 v402 k1_t21 = 1#1), ∀ a, (k1_off311 i v400 v402 k1_t21) a + S72x256.size a ≤ S100000x512.size a) ∧
  (∀ k1_t21 : Fin (k1_t21_loop v400 v402).trips, ∀ (k1_h22 : k1_cond22 v400 v402 k1_t21 = 1#1), ∀ (k1_h23 : k1_cond23 v400 v402 k1_t21 = 1#1), ∀ a, (k1_off312 i v400 v402 k1_t21) a + S72x256.size a ≤ S100000x512.size a) ∧
  (∀ k1_t21 : Fin (k1_t21_loop v400 v402).trips, (k1_t24_loop v400 v402 k1_t21).OK) ∧
  (∀ (k1_t21 : Fin (k1_t21_loop v400 v402).trips) (k1_t24 : Fin (k1_t24_loop v400 v402 k1_t21).trips), ∀ a, (k1_off313 v400 v402 k1_t21 k1_t24) a + S1x16.size a ≤ S72x256.size a) ∧
  (∀ (k1_t21 : Fin (k1_t21_loop v400 v402).trips) (k1_t24 : Fin (k1_t24_loop v400 v402 k1_t21).trips), ∀ a, (k1_off314 v400 v402 k1_t21 k1_t24) a + S1x16.size a ≤ S72x256.size a) ∧
  (∀ (k1_t21 : Fin (k1_t21_loop v400 v402).trips) (k1_t24 : Fin (k1_t24_loop v400 v402 k1_t21).trips), ∀ a, (k1_off315 v400 v402 k1_t21 k1_t24) a + S1x16.size a ≤ S72x256.size a) ∧
  (∀ (k1_t21 : Fin (k1_t21_loop v400 v402).trips) (k1_t24 : Fin (k1_t24_loop v400 v402 k1_t21).trips), ∀ a, (k1_off316 v400 v402 k1_t21 k1_t24) a + S1x16.size a ≤ S72x256.size a) ∧
  (∀ (k1_t21 : Fin (k1_t21_loop v400 v402).trips) (k1_t24 : Fin (k1_t24_loop v400 v402 k1_t21).trips), ∀ a, (k1_off317 v400 v402 k1_t21 k1_t24) a + S1x16.size a ≤ S72x256.size a) ∧
  (∀ (k1_t21 : Fin (k1_t21_loop v400 v402).trips) (k1_t24 : Fin (k1_t24_loop v400 v402 k1_t21).trips), ∀ a, (k1_off318 v400 v402 k1_t21 k1_t24) a + S1x16.size a ≤ S72x256.size a) ∧
  (∀ (k1_t21 : Fin (k1_t21_loop v400 v402).trips) (k1_t24 : Fin (k1_t24_loop v400 v402 k1_t21).trips), ∀ a, (k1_off319 v400 v402 k1_t21 k1_t24) a + S1x16.size a ≤ S72x256.size a) ∧
  (∀ (k1_t21 : Fin (k1_t21_loop v400 v402).trips) (k1_t24 : Fin (k1_t24_loop v400 v402 k1_t21).trips), ∀ a, (k1_off320 v400 v402 k1_t21 k1_t24) a + S1x16.size a ≤ S72x256.size a) ∧
  (∀ (k1_t21 : Fin (k1_t21_loop v400 v402).trips) (k1_t24 : Fin (k1_t24_loop v400 v402 k1_t21).trips), ∀ a, (k1_off321 v400 v402 k1_t21 k1_t24) a + S1x16.size a ≤ S72x256.size a) ∧
  (∀ (k1_t21 : Fin (k1_t21_loop v400 v402).trips) (k1_t24 : Fin (k1_t24_loop v400 v402 k1_t21).trips), ∀ a, (k1_off322 v400 v402 k1_t21 k1_t24) a + S1x16.size a ≤ S72x256.size a) ∧
  (∀ (k1_t21 : Fin (k1_t21_loop v400 v402).trips) (k1_t24 : Fin (k1_t24_loop v400 v402 k1_t21).trips), ∀ a, (k1_off323 v400 v402 k1_t21 k1_t24) a + S1x16.size a ≤ S72x256.size a) ∧
  (∀ (k1_t21 : Fin (k1_t21_loop v400 v402).trips) (k1_t24 : Fin (k1_t24_loop v400 v402 k1_t21).trips), ∀ a, (k1_off324 v400 v402 k1_t21 k1_t24) a + S1x16.size a ≤ S72x256.size a) ∧
  (∀ (k1_t21 : Fin (k1_t21_loop v400 v402).trips) (k1_t24 : Fin (k1_t24_loop v400 v402 k1_t21).trips), ∀ a, (k1_off325 v400 v402 k1_t21 k1_t24) a + S1x16.size a ≤ S72x256.size a) ∧
  (∀ (k1_t21 : Fin (k1_t21_loop v400 v402).trips) (k1_t24 : Fin (k1_t24_loop v400 v402 k1_t21).trips), ∀ a, (k1_off326 v400 v402 k1_t21 k1_t24) a + S1x16.size a ≤ S72x256.size a) ∧
  (∀ (k1_t21 : Fin (k1_t21_loop v400 v402).trips) (k1_t24 : Fin (k1_t24_loop v400 v402 k1_t21).trips), ∀ a, (k1_off327 v400 v402 k1_t21 k1_t24) a + S1x16.size a ≤ S72x256.size a) ∧
  (∀ (k1_t21 : Fin (k1_t21_loop v400 v402).trips) (k1_t24 : Fin (k1_t24_loop v400 v402 k1_t21).trips), ∀ a, (k1_off328 v400 v402 k1_t21 k1_t24) a + S1x16.size a ≤ S72x256.size a) ∧
  (∀ k1_t21 : Fin (k1_t21_loop v400 v402).trips, (k1_t25_loop v400 v402 k1_t21).OK) ∧
  (∀ (k1_t21 : Fin (k1_t21_loop v400 v402).trips) (k1_t25 : Fin (k1_t25_loop v400 v402 k1_t21).trips), ∀ a, (k1_off329 v400 v402 k1_t21 k1_t25) a + S1x16.size a ≤ S72x256.size a) ∧
  (∀ (k1_t21 : Fin (k1_t21_loop v400 v402).trips) (k1_t25 : Fin (k1_t25_loop v400 v402 k1_t21).trips), ∀ a, (k1_off330 v400 v402 k1_t21 k1_t25) a + S1x16.size a ≤ S72x256.size a) ∧
  (∀ (k1_t21 : Fin (k1_t21_loop v400 v402).trips) (k1_t25 : Fin (k1_t25_loop v400 v402 k1_t21).trips), ∀ a, (k1_off331 v400 v402 k1_t21 k1_t25) a + S1x16.size a ≤ S72x256.size a) ∧
  (∀ (k1_t21 : Fin (k1_t21_loop v400 v402).trips) (k1_t25 : Fin (k1_t25_loop v400 v402 k1_t21).trips), ∀ a, (k1_off332 v400 v402 k1_t21 k1_t25) a + S1x16.size a ≤ S72x256.size a) ∧
  (∀ (k1_t21 : Fin (k1_t21_loop v400 v402).trips) (k1_t25 : Fin (k1_t25_loop v400 v402 k1_t21).trips), ∀ a, (k1_off333 v400 v402 k1_t21 k1_t25) a + S1x16.size a ≤ S72x256.size a) ∧
  (∀ (k1_t21 : Fin (k1_t21_loop v400 v402).trips) (k1_t25 : Fin (k1_t25_loop v400 v402 k1_t21).trips), ∀ a, (k1_off334 v400 v402 k1_t21 k1_t25) a + S1x16.size a ≤ S72x256.size a)
def k1_chk3_2 (i : grid1.Coords) (v400 : BitVec 32) (v402 : BitVec 32) : Prop :=
  (∀ (k1_t21 : Fin (k1_t21_loop v400 v402).trips) (k1_t25 : Fin (k1_t25_loop v400 v402 k1_t21).trips), ∀ a, (k1_off335 v400 v402 k1_t21 k1_t25) a + S1x16.size a ≤ S72x256.size a) ∧
  (∀ (k1_t21 : Fin (k1_t21_loop v400 v402).trips) (k1_t25 : Fin (k1_t25_loop v400 v402 k1_t21).trips), ∀ a, (k1_off336 v400 v402 k1_t21 k1_t25) a + S1x16.size a ≤ S72x256.size a) ∧
  (∀ (k1_t21 : Fin (k1_t21_loop v400 v402).trips) (k1_t25 : Fin (k1_t25_loop v400 v402 k1_t21).trips), ∀ a, (k1_off337 v400 v402 k1_t21 k1_t25) a + S1x16.size a ≤ S72x256.size a) ∧
  (∀ (k1_t21 : Fin (k1_t21_loop v400 v402).trips) (k1_t25 : Fin (k1_t25_loop v400 v402 k1_t21).trips), ∀ a, (k1_off338 v400 v402 k1_t21 k1_t25) a + S1x16.size a ≤ S72x256.size a) ∧
  (∀ (k1_t21 : Fin (k1_t21_loop v400 v402).trips) (k1_t25 : Fin (k1_t25_loop v400 v402 k1_t21).trips), ∀ a, (k1_off339 v400 v402 k1_t21 k1_t25) a + S1x16.size a ≤ S72x256.size a) ∧
  (∀ (k1_t21 : Fin (k1_t21_loop v400 v402).trips) (k1_t25 : Fin (k1_t25_loop v400 v402 k1_t21).trips), ∀ a, (k1_off340 v400 v402 k1_t21 k1_t25) a + S1x16.size a ≤ S72x256.size a) ∧
  (∀ (k1_t21 : Fin (k1_t21_loop v400 v402).trips) (k1_t25 : Fin (k1_t25_loop v400 v402 k1_t21).trips), ∀ a, (k1_off341 v400 v402 k1_t21 k1_t25) a + S1x16.size a ≤ S72x256.size a) ∧
  (∀ (k1_t21 : Fin (k1_t21_loop v400 v402).trips) (k1_t25 : Fin (k1_t25_loop v400 v402 k1_t21).trips), ∀ a, (k1_off342 v400 v402 k1_t21 k1_t25) a + S1x16.size a ≤ S72x256.size a) ∧
  (∀ (k1_t21 : Fin (k1_t21_loop v400 v402).trips) (k1_t25 : Fin (k1_t25_loop v400 v402 k1_t21).trips), ∀ a, (k1_off343 v400 v402 k1_t21 k1_t25) a + S1x16.size a ≤ S72x256.size a) ∧
  (∀ (k1_t21 : Fin (k1_t21_loop v400 v402).trips) (k1_t25 : Fin (k1_t25_loop v400 v402 k1_t21).trips), ∀ a, (k1_off344 v400 v402 k1_t21 k1_t25) a + S1x16.size a ≤ S72x256.size a) ∧
  ((k1_t26_loop v400 v402).OK) ∧
  (∀ k1_t26 : Fin (k1_t26_loop v400 v402).trips, ∀ (k1_h24 : k1_cond24 v400 v402 k1_t26 = 1#1), ∀ a, (k1_off345 i v400 v402 k1_t26) a + S72x256.size a ≤ S100000x512.size a) ∧
  (∀ k1_t26 : Fin (k1_t26_loop v400 v402).trips, ∀ (k1_h24 : k1_cond24 v400 v402 k1_t26 = 1#1), ∀ (k1_h25 : k1_cond25 v400 v402 k1_t26 = 1#1), ∀ a, (k1_off346 i v400 v402 k1_t26) a + S72x256.size a ≤ S100000x512.size a) ∧
  (∀ k1_t26 : Fin (k1_t26_loop v400 v402).trips, (k1_t27_loop v400 v402 k1_t26).OK) ∧
  (∀ (k1_t26 : Fin (k1_t26_loop v400 v402).trips) (k1_t27 : Fin (k1_t27_loop v400 v402 k1_t26).trips), ∀ a, (k1_off347 v400 v402 k1_t26 k1_t27) a + S1x16.size a ≤ S72x256.size a) ∧
  (∀ (k1_t26 : Fin (k1_t26_loop v400 v402).trips) (k1_t27 : Fin (k1_t27_loop v400 v402 k1_t26).trips), ∀ a, (k1_off348 v400 v402 k1_t26 k1_t27) a + S1x16.size a ≤ S72x256.size a) ∧
  (∀ (k1_t26 : Fin (k1_t26_loop v400 v402).trips) (k1_t27 : Fin (k1_t27_loop v400 v402 k1_t26).trips), ∀ a, (k1_off349 v400 v402 k1_t26 k1_t27) a + S1x16.size a ≤ S72x256.size a) ∧
  (∀ (k1_t26 : Fin (k1_t26_loop v400 v402).trips) (k1_t27 : Fin (k1_t27_loop v400 v402 k1_t26).trips), ∀ a, (k1_off350 v400 v402 k1_t26 k1_t27) a + S1x16.size a ≤ S72x256.size a) ∧
  (∀ (k1_t26 : Fin (k1_t26_loop v400 v402).trips) (k1_t27 : Fin (k1_t27_loop v400 v402 k1_t26).trips), ∀ a, (k1_off351 v400 v402 k1_t26 k1_t27) a + S1x16.size a ≤ S72x256.size a) ∧
  (∀ (k1_t26 : Fin (k1_t26_loop v400 v402).trips) (k1_t27 : Fin (k1_t27_loop v400 v402 k1_t26).trips), ∀ a, (k1_off352 v400 v402 k1_t26 k1_t27) a + S1x16.size a ≤ S72x256.size a) ∧
  (∀ (k1_t26 : Fin (k1_t26_loop v400 v402).trips) (k1_t27 : Fin (k1_t27_loop v400 v402 k1_t26).trips), ∀ a, (k1_off353 v400 v402 k1_t26 k1_t27) a + S1x16.size a ≤ S72x256.size a) ∧
  (∀ (k1_t26 : Fin (k1_t26_loop v400 v402).trips) (k1_t27 : Fin (k1_t27_loop v400 v402 k1_t26).trips), ∀ a, (k1_off354 v400 v402 k1_t26 k1_t27) a + S1x16.size a ≤ S72x256.size a) ∧
  (∀ (k1_t26 : Fin (k1_t26_loop v400 v402).trips) (k1_t27 : Fin (k1_t27_loop v400 v402 k1_t26).trips), ∀ a, (k1_off355 v400 v402 k1_t26 k1_t27) a + S1x16.size a ≤ S72x256.size a) ∧
  (∀ (k1_t26 : Fin (k1_t26_loop v400 v402).trips) (k1_t27 : Fin (k1_t27_loop v400 v402 k1_t26).trips), ∀ a, (k1_off356 v400 v402 k1_t26 k1_t27) a + S1x16.size a ≤ S72x256.size a) ∧
  (∀ (k1_t26 : Fin (k1_t26_loop v400 v402).trips) (k1_t27 : Fin (k1_t27_loop v400 v402 k1_t26).trips), ∀ a, (k1_off357 v400 v402 k1_t26 k1_t27) a + S1x16.size a ≤ S72x256.size a) ∧
  (∀ (k1_t26 : Fin (k1_t26_loop v400 v402).trips) (k1_t27 : Fin (k1_t27_loop v400 v402 k1_t26).trips), ∀ a, (k1_off358 v400 v402 k1_t26 k1_t27) a + S1x16.size a ≤ S72x256.size a) ∧
  (∀ (k1_t26 : Fin (k1_t26_loop v400 v402).trips) (k1_t27 : Fin (k1_t27_loop v400 v402 k1_t26).trips), ∀ a, (k1_off359 v400 v402 k1_t26 k1_t27) a + S1x16.size a ≤ S72x256.size a) ∧
  (∀ (k1_t26 : Fin (k1_t26_loop v400 v402).trips) (k1_t27 : Fin (k1_t27_loop v400 v402 k1_t26).trips), ∀ a, (k1_off360 v400 v402 k1_t26 k1_t27) a + S1x16.size a ≤ S72x256.size a) ∧
  (∀ (k1_t26 : Fin (k1_t26_loop v400 v402).trips) (k1_t27 : Fin (k1_t27_loop v400 v402 k1_t26).trips), ∀ a, (k1_off361 v400 v402 k1_t26 k1_t27) a + S1x16.size a ≤ S72x256.size a) ∧
  (∀ (k1_t26 : Fin (k1_t26_loop v400 v402).trips) (k1_t27 : Fin (k1_t27_loop v400 v402 k1_t26).trips), ∀ a, (k1_off362 v400 v402 k1_t26 k1_t27) a + S1x16.size a ≤ S72x256.size a) ∧
  (∀ k1_t26 : Fin (k1_t26_loop v400 v402).trips, (k1_t28_loop v400 v402 k1_t26).OK) ∧
  (∀ (k1_t26 : Fin (k1_t26_loop v400 v402).trips) (k1_t28 : Fin (k1_t28_loop v400 v402 k1_t26).trips), ∀ a, (k1_off363 v400 v402 k1_t26 k1_t28) a + S1x16.size a ≤ S72x256.size a)
def k1_chk3_3 (i : grid1.Coords) (v400 : BitVec 32) (v402 : BitVec 32) : Prop :=
  (∀ (k1_t26 : Fin (k1_t26_loop v400 v402).trips) (k1_t28 : Fin (k1_t28_loop v400 v402 k1_t26).trips), ∀ a, (k1_off364 v400 v402 k1_t26 k1_t28) a + S1x16.size a ≤ S72x256.size a) ∧
  (∀ (k1_t26 : Fin (k1_t26_loop v400 v402).trips) (k1_t28 : Fin (k1_t28_loop v400 v402 k1_t26).trips), ∀ a, (k1_off365 v400 v402 k1_t26 k1_t28) a + S1x16.size a ≤ S72x256.size a) ∧
  (∀ (k1_t26 : Fin (k1_t26_loop v400 v402).trips) (k1_t28 : Fin (k1_t28_loop v400 v402 k1_t26).trips), ∀ a, (k1_off366 v400 v402 k1_t26 k1_t28) a + S1x16.size a ≤ S72x256.size a) ∧
  (∀ (k1_t26 : Fin (k1_t26_loop v400 v402).trips) (k1_t28 : Fin (k1_t28_loop v400 v402 k1_t26).trips), ∀ a, (k1_off367 v400 v402 k1_t26 k1_t28) a + S1x16.size a ≤ S72x256.size a) ∧
  (∀ (k1_t26 : Fin (k1_t26_loop v400 v402).trips) (k1_t28 : Fin (k1_t28_loop v400 v402 k1_t26).trips), ∀ a, (k1_off368 v400 v402 k1_t26 k1_t28) a + S1x16.size a ≤ S72x256.size a) ∧
  (∀ (k1_t26 : Fin (k1_t26_loop v400 v402).trips) (k1_t28 : Fin (k1_t28_loop v400 v402 k1_t26).trips), ∀ a, (k1_off369 v400 v402 k1_t26 k1_t28) a + S1x16.size a ≤ S72x256.size a) ∧
  (∀ (k1_t26 : Fin (k1_t26_loop v400 v402).trips) (k1_t28 : Fin (k1_t28_loop v400 v402 k1_t26).trips), ∀ a, (k1_off370 v400 v402 k1_t26 k1_t28) a + S1x16.size a ≤ S72x256.size a) ∧
  (∀ (k1_t26 : Fin (k1_t26_loop v400 v402).trips) (k1_t28 : Fin (k1_t28_loop v400 v402 k1_t26).trips), ∀ a, (k1_off371 v400 v402 k1_t26 k1_t28) a + S1x16.size a ≤ S72x256.size a) ∧
  (∀ (k1_t26 : Fin (k1_t26_loop v400 v402).trips) (k1_t28 : Fin (k1_t28_loop v400 v402 k1_t26).trips), ∀ a, (k1_off372 v400 v402 k1_t26 k1_t28) a + S1x16.size a ≤ S72x256.size a) ∧
  (∀ (k1_t26 : Fin (k1_t26_loop v400 v402).trips) (k1_t28 : Fin (k1_t28_loop v400 v402 k1_t26).trips), ∀ a, (k1_off373 v400 v402 k1_t26 k1_t28) a + S1x16.size a ≤ S72x256.size a) ∧
  (∀ (k1_t26 : Fin (k1_t26_loop v400 v402).trips) (k1_t28 : Fin (k1_t28_loop v400 v402 k1_t26).trips), ∀ a, (k1_off374 v400 v402 k1_t26 k1_t28) a + S1x16.size a ≤ S72x256.size a) ∧
  (∀ (k1_t26 : Fin (k1_t26_loop v400 v402).trips) (k1_t28 : Fin (k1_t28_loop v400 v402 k1_t26).trips), ∀ a, (k1_off375 v400 v402 k1_t26 k1_t28) a + S1x16.size a ≤ S72x256.size a) ∧
  (∀ (k1_t26 : Fin (k1_t26_loop v400 v402).trips) (k1_t28 : Fin (k1_t28_loop v400 v402 k1_t26).trips), ∀ a, (k1_off376 v400 v402 k1_t26 k1_t28) a + S1x16.size a ≤ S72x256.size a) ∧
  (∀ (k1_t26 : Fin (k1_t26_loop v400 v402).trips) (k1_t28 : Fin (k1_t28_loop v400 v402 k1_t26).trips), ∀ a, (k1_off377 v400 v402 k1_t26 k1_t28) a + S1x16.size a ≤ S72x256.size a) ∧
  (∀ (k1_t26 : Fin (k1_t26_loop v400 v402).trips) (k1_t28 : Fin (k1_t28_loop v400 v402 k1_t26).trips), ∀ a, (k1_off378 v400 v402 k1_t26 k1_t28) a + S1x16.size a ≤ S72x256.size a) ∧
  (∀ k1_t26 : Fin (k1_t26_loop v400 v402).trips, ∀ (k1_h26 : k1_cond26 v400 v402 k1_t26 = 1#1), ∀ a, (k1_off379 i v400 v402 k1_t26) a + S72x256.size a ≤ S100000x512.size a) ∧
  (∀ k1_t26 : Fin (k1_t26_loop v400 v402).trips, ∀ (k1_h26 : k1_cond26 v400 v402 k1_t26 = 1#1), ∀ (k1_h27 : k1_cond27 v400 v402 k1_t26 = 1#1), ∀ a, (k1_off380 i v400 v402 k1_t26) a + S72x256.size a ≤ S100000x512.size a) ∧
  (∀ k1_t26 : Fin (k1_t26_loop v400 v402).trips, (k1_t29_loop v400 v402 k1_t26).OK) ∧
  (∀ (k1_t26 : Fin (k1_t26_loop v400 v402).trips) (k1_t29 : Fin (k1_t29_loop v400 v402 k1_t26).trips), ∀ a, (k1_off381 v400 v402 k1_t26 k1_t29) a + S1x16.size a ≤ S72x256.size a) ∧
  (∀ (k1_t26 : Fin (k1_t26_loop v400 v402).trips) (k1_t29 : Fin (k1_t29_loop v400 v402 k1_t26).trips), ∀ a, (k1_off382 v400 v402 k1_t26 k1_t29) a + S1x16.size a ≤ S72x256.size a) ∧
  (∀ (k1_t26 : Fin (k1_t26_loop v400 v402).trips) (k1_t29 : Fin (k1_t29_loop v400 v402 k1_t26).trips), ∀ a, (k1_off383 v400 v402 k1_t26 k1_t29) a + S1x16.size a ≤ S72x256.size a) ∧
  (∀ (k1_t26 : Fin (k1_t26_loop v400 v402).trips) (k1_t29 : Fin (k1_t29_loop v400 v402 k1_t26).trips), ∀ a, (k1_off384 v400 v402 k1_t26 k1_t29) a + S1x16.size a ≤ S72x256.size a) ∧
  (∀ (k1_t26 : Fin (k1_t26_loop v400 v402).trips) (k1_t29 : Fin (k1_t29_loop v400 v402 k1_t26).trips), ∀ a, (k1_off385 v400 v402 k1_t26 k1_t29) a + S1x16.size a ≤ S72x256.size a) ∧
  (∀ (k1_t26 : Fin (k1_t26_loop v400 v402).trips) (k1_t29 : Fin (k1_t29_loop v400 v402 k1_t26).trips), ∀ a, (k1_off386 v400 v402 k1_t26 k1_t29) a + S1x16.size a ≤ S72x256.size a) ∧
  (∀ (k1_t26 : Fin (k1_t26_loop v400 v402).trips) (k1_t29 : Fin (k1_t29_loop v400 v402 k1_t26).trips), ∀ a, (k1_off387 v400 v402 k1_t26 k1_t29) a + S1x16.size a ≤ S72x256.size a) ∧
  (∀ (k1_t26 : Fin (k1_t26_loop v400 v402).trips) (k1_t29 : Fin (k1_t29_loop v400 v402 k1_t26).trips), ∀ a, (k1_off388 v400 v402 k1_t26 k1_t29) a + S1x16.size a ≤ S72x256.size a) ∧
  (∀ (k1_t26 : Fin (k1_t26_loop v400 v402).trips) (k1_t29 : Fin (k1_t29_loop v400 v402 k1_t26).trips), ∀ a, (k1_off389 v400 v402 k1_t26 k1_t29) a + S1x16.size a ≤ S72x256.size a) ∧
  (∀ (k1_t26 : Fin (k1_t26_loop v400 v402).trips) (k1_t29 : Fin (k1_t29_loop v400 v402 k1_t26).trips), ∀ a, (k1_off390 v400 v402 k1_t26 k1_t29) a + S1x16.size a ≤ S72x256.size a) ∧
  (∀ (k1_t26 : Fin (k1_t26_loop v400 v402).trips) (k1_t29 : Fin (k1_t29_loop v400 v402 k1_t26).trips), ∀ a, (k1_off391 v400 v402 k1_t26 k1_t29) a + S1x16.size a ≤ S72x256.size a) ∧
  (∀ (k1_t26 : Fin (k1_t26_loop v400 v402).trips) (k1_t29 : Fin (k1_t29_loop v400 v402 k1_t26).trips), ∀ a, (k1_off392 v400 v402 k1_t26 k1_t29) a + S1x16.size a ≤ S72x256.size a) ∧
  (∀ (k1_t26 : Fin (k1_t26_loop v400 v402).trips) (k1_t29 : Fin (k1_t29_loop v400 v402 k1_t26).trips), ∀ a, (k1_off393 v400 v402 k1_t26 k1_t29) a + S1x16.size a ≤ S72x256.size a) ∧
  (∀ (k1_t26 : Fin (k1_t26_loop v400 v402).trips) (k1_t29 : Fin (k1_t29_loop v400 v402 k1_t26).trips), ∀ a, (k1_off394 v400 v402 k1_t26 k1_t29) a + S1x16.size a ≤ S72x256.size a)
def k1_chk3_4 (i : grid1.Coords) (v400 : BitVec 32) (v402 : BitVec 32) : Prop :=
  (∀ (k1_t26 : Fin (k1_t26_loop v400 v402).trips) (k1_t29 : Fin (k1_t29_loop v400 v402 k1_t26).trips), ∀ a, (k1_off395 v400 v402 k1_t26 k1_t29) a + S1x16.size a ≤ S72x256.size a) ∧
  (∀ (k1_t26 : Fin (k1_t26_loop v400 v402).trips) (k1_t29 : Fin (k1_t29_loop v400 v402 k1_t26).trips), ∀ a, (k1_off396 v400 v402 k1_t26 k1_t29) a + S1x16.size a ≤ S72x256.size a) ∧
  (∀ k1_t26 : Fin (k1_t26_loop v400 v402).trips, (k1_t30_loop v400 v402 k1_t26).OK) ∧
  (∀ (k1_t26 : Fin (k1_t26_loop v400 v402).trips) (k1_t30 : Fin (k1_t30_loop v400 v402 k1_t26).trips), ∀ a, (k1_off397 v400 v402 k1_t26 k1_t30) a + S1x16.size a ≤ S72x256.size a) ∧
  (∀ (k1_t26 : Fin (k1_t26_loop v400 v402).trips) (k1_t30 : Fin (k1_t30_loop v400 v402 k1_t26).trips), ∀ a, (k1_off398 v400 v402 k1_t26 k1_t30) a + S1x16.size a ≤ S72x256.size a) ∧
  (∀ (k1_t26 : Fin (k1_t26_loop v400 v402).trips) (k1_t30 : Fin (k1_t30_loop v400 v402 k1_t26).trips), ∀ a, (k1_off399 v400 v402 k1_t26 k1_t30) a + S1x16.size a ≤ S72x256.size a) ∧
  (∀ (k1_t26 : Fin (k1_t26_loop v400 v402).trips) (k1_t30 : Fin (k1_t30_loop v400 v402 k1_t26).trips), ∀ a, (k1_off400 v400 v402 k1_t26 k1_t30) a + S1x16.size a ≤ S72x256.size a) ∧
  (∀ (k1_t26 : Fin (k1_t26_loop v400 v402).trips) (k1_t30 : Fin (k1_t30_loop v400 v402 k1_t26).trips), ∀ a, (k1_off401 v400 v402 k1_t26 k1_t30) a + S1x16.size a ≤ S72x256.size a) ∧
  (∀ (k1_t26 : Fin (k1_t26_loop v400 v402).trips) (k1_t30 : Fin (k1_t30_loop v400 v402 k1_t26).trips), ∀ a, (k1_off402 v400 v402 k1_t26 k1_t30) a + S1x16.size a ≤ S72x256.size a) ∧
  (∀ (k1_t26 : Fin (k1_t26_loop v400 v402).trips) (k1_t30 : Fin (k1_t30_loop v400 v402 k1_t26).trips), ∀ a, (k1_off403 v400 v402 k1_t26 k1_t30) a + S1x16.size a ≤ S72x256.size a) ∧
  (∀ (k1_t26 : Fin (k1_t26_loop v400 v402).trips) (k1_t30 : Fin (k1_t30_loop v400 v402 k1_t26).trips), ∀ a, (k1_off404 v400 v402 k1_t26 k1_t30) a + S1x16.size a ≤ S72x256.size a) ∧
  (∀ (k1_t26 : Fin (k1_t26_loop v400 v402).trips) (k1_t30 : Fin (k1_t30_loop v400 v402 k1_t26).trips), ∀ a, (k1_off405 v400 v402 k1_t26 k1_t30) a + S1x16.size a ≤ S72x256.size a) ∧
  (∀ (k1_t26 : Fin (k1_t26_loop v400 v402).trips) (k1_t30 : Fin (k1_t30_loop v400 v402 k1_t26).trips), ∀ a, (k1_off406 v400 v402 k1_t26 k1_t30) a + S1x16.size a ≤ S72x256.size a) ∧
  (∀ (k1_t26 : Fin (k1_t26_loop v400 v402).trips) (k1_t30 : Fin (k1_t30_loop v400 v402 k1_t26).trips), ∀ a, (k1_off407 v400 v402 k1_t26 k1_t30) a + S1x16.size a ≤ S72x256.size a) ∧
  (∀ (k1_t26 : Fin (k1_t26_loop v400 v402).trips) (k1_t30 : Fin (k1_t30_loop v400 v402 k1_t26).trips), ∀ a, (k1_off408 v400 v402 k1_t26 k1_t30) a + S1x16.size a ≤ S72x256.size a) ∧
  (∀ (k1_t26 : Fin (k1_t26_loop v400 v402).trips) (k1_t30 : Fin (k1_t30_loop v400 v402 k1_t26).trips), ∀ a, (k1_off409 v400 v402 k1_t26 k1_t30) a + S1x16.size a ≤ S72x256.size a) ∧
  (∀ (k1_t26 : Fin (k1_t26_loop v400 v402).trips) (k1_t30 : Fin (k1_t30_loop v400 v402 k1_t26).trips), ∀ a, (k1_off410 v400 v402 k1_t26 k1_t30) a + S1x16.size a ≤ S72x256.size a) ∧
  (∀ (k1_t26 : Fin (k1_t26_loop v400 v402).trips) (k1_t30 : Fin (k1_t30_loop v400 v402 k1_t26).trips), ∀ a, (k1_off411 v400 v402 k1_t26 k1_t30) a + S1x16.size a ≤ S72x256.size a) ∧
  (∀ (k1_t26 : Fin (k1_t26_loop v400 v402).trips) (k1_t30 : Fin (k1_t30_loop v400 v402 k1_t26).trips), ∀ a, (k1_off412 v400 v402 k1_t26 k1_t30) a + S1x16.size a ≤ S72x256.size a)
def k1_chk3 (i : grid1.Coords) (v400 : BitVec 32) (v402 : BitVec 32) : Prop :=
  k1_chk3_0 i v400 v402 ∧
  k1_chk3_1 i v400 v402 ∧
  k1_chk3_2 i v400 v402 ∧
  k1_chk3_3 i v400 v402 ∧
  k1_chk3_4 i v400 v402
theorem k1_off276_inb : ∀ (i : grid1.Coords) (v400 : BitVec 32) (v402 : BitVec 32) (k1_hw3 : k1_chk3 i v400 v402), ∀ (k1_h19 : k1_cond19 v400 v402 = 1#1), ∀ a, (k1_off276 i v400) a + S72x256.size a ≤ S100000x512.size a := fun i v400 v402 k1_hw3 k1_h19 => k1_hw3.1.1 k1_h19
theorem k1_t21_ok : ∀ (i : grid1.Coords) (v400 : BitVec 32) (v402 : BitVec 32) (k1_hw3 : k1_chk3 i v400 v402), (k1_t21_loop v400 v402).OK := fun i v400 v402 k1_hw3 => k1_hw3.1.2.1
theorem k1_off277_inb : ∀ (i : grid1.Coords) (v400 : BitVec 32) (v402 : BitVec 32) (k1_hw3 : k1_chk3 i v400 v402) (k1_t21 : Fin (k1_t21_loop v400 v402).trips), ∀ (k1_h20 : k1_cond20 v400 v402 k1_t21 = 1#1), ∀ a, (k1_off277 i v400 v402 k1_t21) a + S72x256.size a ≤ S100000x512.size a := fun i v400 v402 k1_hw3 k1_t21 k1_h20 => k1_hw3.1.2.2.1 k1_t21 k1_h20
theorem k1_off278_inb : ∀ (i : grid1.Coords) (v400 : BitVec 32) (v402 : BitVec 32) (k1_hw3 : k1_chk3 i v400 v402) (k1_t21 : Fin (k1_t21_loop v400 v402).trips), ∀ (k1_h20 : k1_cond20 v400 v402 k1_t21 = 1#1), ∀ (k1_h21 : k1_cond21 v400 v402 k1_t21 = 1#1), ∀ a, (k1_off278 i v400 v402 k1_t21) a + S72x256.size a ≤ S100000x512.size a := fun i v400 v402 k1_hw3 k1_t21 k1_h20 k1_h21 => k1_hw3.1.2.2.2.1 k1_t21 k1_h20 k1_h21
theorem k1_t22_ok : ∀ (i : grid1.Coords) (v400 : BitVec 32) (v402 : BitVec 32) (k1_hw3 : k1_chk3 i v400 v402) (k1_t21 : Fin (k1_t21_loop v400 v402).trips), (k1_t22_loop v400 v402 k1_t21).OK := fun i v400 v402 k1_hw3 k1_t21 => k1_hw3.1.2.2.2.2.1 k1_t21
theorem k1_off279_inb : ∀ (i : grid1.Coords) (v400 : BitVec 32) (v402 : BitVec 32) (k1_hw3 : k1_chk3 i v400 v402) (k1_t21 : Fin (k1_t21_loop v400 v402).trips) (k1_t22 : Fin (k1_t22_loop v400 v402 k1_t21).trips), ∀ a, (k1_off279 v400 v402 k1_t21 k1_t22) a + S1x16.size a ≤ S72x256.size a := fun i v400 v402 k1_hw3 k1_t21 k1_t22 => k1_hw3.1.2.2.2.2.2.1 k1_t21 k1_t22
theorem k1_off280_inb : ∀ (i : grid1.Coords) (v400 : BitVec 32) (v402 : BitVec 32) (k1_hw3 : k1_chk3 i v400 v402) (k1_t21 : Fin (k1_t21_loop v400 v402).trips) (k1_t22 : Fin (k1_t22_loop v400 v402 k1_t21).trips), ∀ a, (k1_off280 v400 v402 k1_t21 k1_t22) a + S1x16.size a ≤ S72x256.size a := fun i v400 v402 k1_hw3 k1_t21 k1_t22 => k1_hw3.1.2.2.2.2.2.2.1 k1_t21 k1_t22
theorem k1_off281_inb : ∀ (i : grid1.Coords) (v400 : BitVec 32) (v402 : BitVec 32) (k1_hw3 : k1_chk3 i v400 v402) (k1_t21 : Fin (k1_t21_loop v400 v402).trips) (k1_t22 : Fin (k1_t22_loop v400 v402 k1_t21).trips), ∀ a, (k1_off281 v400 v402 k1_t21 k1_t22) a + S1x16.size a ≤ S72x256.size a := fun i v400 v402 k1_hw3 k1_t21 k1_t22 => k1_hw3.1.2.2.2.2.2.2.2.1 k1_t21 k1_t22
theorem k1_off282_inb : ∀ (i : grid1.Coords) (v400 : BitVec 32) (v402 : BitVec 32) (k1_hw3 : k1_chk3 i v400 v402) (k1_t21 : Fin (k1_t21_loop v400 v402).trips) (k1_t22 : Fin (k1_t22_loop v400 v402 k1_t21).trips), ∀ a, (k1_off282 v400 v402 k1_t21 k1_t22) a + S1x16.size a ≤ S72x256.size a := fun i v400 v402 k1_hw3 k1_t21 k1_t22 => k1_hw3.1.2.2.2.2.2.2.2.2.1 k1_t21 k1_t22
theorem k1_off283_inb : ∀ (i : grid1.Coords) (v400 : BitVec 32) (v402 : BitVec 32) (k1_hw3 : k1_chk3 i v400 v402) (k1_t21 : Fin (k1_t21_loop v400 v402).trips) (k1_t22 : Fin (k1_t22_loop v400 v402 k1_t21).trips), ∀ a, (k1_off283 v400 v402 k1_t21 k1_t22) a + S1x16.size a ≤ S72x256.size a := fun i v400 v402 k1_hw3 k1_t21 k1_t22 => k1_hw3.1.2.2.2.2.2.2.2.2.2.1 k1_t21 k1_t22
theorem k1_off284_inb : ∀ (i : grid1.Coords) (v400 : BitVec 32) (v402 : BitVec 32) (k1_hw3 : k1_chk3 i v400 v402) (k1_t21 : Fin (k1_t21_loop v400 v402).trips) (k1_t22 : Fin (k1_t22_loop v400 v402 k1_t21).trips), ∀ a, (k1_off284 v400 v402 k1_t21 k1_t22) a + S1x16.size a ≤ S72x256.size a := fun i v400 v402 k1_hw3 k1_t21 k1_t22 => k1_hw3.1.2.2.2.2.2.2.2.2.2.2.1 k1_t21 k1_t22
theorem k1_off285_inb : ∀ (i : grid1.Coords) (v400 : BitVec 32) (v402 : BitVec 32) (k1_hw3 : k1_chk3 i v400 v402) (k1_t21 : Fin (k1_t21_loop v400 v402).trips) (k1_t22 : Fin (k1_t22_loop v400 v402 k1_t21).trips), ∀ a, (k1_off285 v400 v402 k1_t21 k1_t22) a + S1x16.size a ≤ S72x256.size a := fun i v400 v402 k1_hw3 k1_t21 k1_t22 => k1_hw3.1.2.2.2.2.2.2.2.2.2.2.2.1 k1_t21 k1_t22
theorem k1_off286_inb : ∀ (i : grid1.Coords) (v400 : BitVec 32) (v402 : BitVec 32) (k1_hw3 : k1_chk3 i v400 v402) (k1_t21 : Fin (k1_t21_loop v400 v402).trips) (k1_t22 : Fin (k1_t22_loop v400 v402 k1_t21).trips), ∀ a, (k1_off286 v400 v402 k1_t21 k1_t22) a + S1x16.size a ≤ S72x256.size a := fun i v400 v402 k1_hw3 k1_t21 k1_t22 => k1_hw3.1.2.2.2.2.2.2.2.2.2.2.2.2.1 k1_t21 k1_t22
theorem k1_off287_inb : ∀ (i : grid1.Coords) (v400 : BitVec 32) (v402 : BitVec 32) (k1_hw3 : k1_chk3 i v400 v402) (k1_t21 : Fin (k1_t21_loop v400 v402).trips) (k1_t22 : Fin (k1_t22_loop v400 v402 k1_t21).trips), ∀ a, (k1_off287 v400 v402 k1_t21 k1_t22) a + S1x16.size a ≤ S72x256.size a := fun i v400 v402 k1_hw3 k1_t21 k1_t22 => k1_hw3.1.2.2.2.2.2.2.2.2.2.2.2.2.2.1 k1_t21 k1_t22
theorem k1_off288_inb : ∀ (i : grid1.Coords) (v400 : BitVec 32) (v402 : BitVec 32) (k1_hw3 : k1_chk3 i v400 v402) (k1_t21 : Fin (k1_t21_loop v400 v402).trips) (k1_t22 : Fin (k1_t22_loop v400 v402 k1_t21).trips), ∀ a, (k1_off288 v400 v402 k1_t21 k1_t22) a + S1x16.size a ≤ S72x256.size a := fun i v400 v402 k1_hw3 k1_t21 k1_t22 => k1_hw3.1.2.2.2.2.2.2.2.2.2.2.2.2.2.2.1 k1_t21 k1_t22
theorem k1_off289_inb : ∀ (i : grid1.Coords) (v400 : BitVec 32) (v402 : BitVec 32) (k1_hw3 : k1_chk3 i v400 v402) (k1_t21 : Fin (k1_t21_loop v400 v402).trips) (k1_t22 : Fin (k1_t22_loop v400 v402 k1_t21).trips), ∀ a, (k1_off289 v400 v402 k1_t21 k1_t22) a + S1x16.size a ≤ S72x256.size a := fun i v400 v402 k1_hw3 k1_t21 k1_t22 => k1_hw3.1.2.2.2.2.2.2.2.2.2.2.2.2.2.2.2.1 k1_t21 k1_t22
theorem k1_off290_inb : ∀ (i : grid1.Coords) (v400 : BitVec 32) (v402 : BitVec 32) (k1_hw3 : k1_chk3 i v400 v402) (k1_t21 : Fin (k1_t21_loop v400 v402).trips) (k1_t22 : Fin (k1_t22_loop v400 v402 k1_t21).trips), ∀ a, (k1_off290 v400 v402 k1_t21 k1_t22) a + S1x16.size a ≤ S72x256.size a := fun i v400 v402 k1_hw3 k1_t21 k1_t22 => k1_hw3.1.2.2.2.2.2.2.2.2.2.2.2.2.2.2.2.2.1 k1_t21 k1_t22
theorem k1_off291_inb : ∀ (i : grid1.Coords) (v400 : BitVec 32) (v402 : BitVec 32) (k1_hw3 : k1_chk3 i v400 v402) (k1_t21 : Fin (k1_t21_loop v400 v402).trips) (k1_t22 : Fin (k1_t22_loop v400 v402 k1_t21).trips), ∀ a, (k1_off291 v400 v402 k1_t21 k1_t22) a + S1x16.size a ≤ S72x256.size a := fun i v400 v402 k1_hw3 k1_t21 k1_t22 => k1_hw3.1.2.2.2.2.2.2.2.2.2.2.2.2.2.2.2.2.2.1 k1_t21 k1_t22
theorem k1_off292_inb : ∀ (i : grid1.Coords) (v400 : BitVec 32) (v402 : BitVec 32) (k1_hw3 : k1_chk3 i v400 v402) (k1_t21 : Fin (k1_t21_loop v400 v402).trips) (k1_t22 : Fin (k1_t22_loop v400 v402 k1_t21).trips), ∀ a, (k1_off292 v400 v402 k1_t21 k1_t22) a + S1x16.size a ≤ S72x256.size a := fun i v400 v402 k1_hw3 k1_t21 k1_t22 => k1_hw3.1.2.2.2.2.2.2.2.2.2.2.2.2.2.2.2.2.2.2.1 k1_t21 k1_t22
theorem k1_off293_inb : ∀ (i : grid1.Coords) (v400 : BitVec 32) (v402 : BitVec 32) (k1_hw3 : k1_chk3 i v400 v402) (k1_t21 : Fin (k1_t21_loop v400 v402).trips) (k1_t22 : Fin (k1_t22_loop v400 v402 k1_t21).trips), ∀ a, (k1_off293 v400 v402 k1_t21 k1_t22) a + S1x16.size a ≤ S72x256.size a := fun i v400 v402 k1_hw3 k1_t21 k1_t22 => k1_hw3.1.2.2.2.2.2.2.2.2.2.2.2.2.2.2.2.2.2.2.2.1 k1_t21 k1_t22
theorem k1_off294_inb : ∀ (i : grid1.Coords) (v400 : BitVec 32) (v402 : BitVec 32) (k1_hw3 : k1_chk3 i v400 v402) (k1_t21 : Fin (k1_t21_loop v400 v402).trips) (k1_t22 : Fin (k1_t22_loop v400 v402 k1_t21).trips), ∀ a, (k1_off294 v400 v402 k1_t21 k1_t22) a + S1x16.size a ≤ S72x256.size a := fun i v400 v402 k1_hw3 k1_t21 k1_t22 => k1_hw3.1.2.2.2.2.2.2.2.2.2.2.2.2.2.2.2.2.2.2.2.2.1 k1_t21 k1_t22
theorem k1_t23_ok : ∀ (i : grid1.Coords) (v400 : BitVec 32) (v402 : BitVec 32) (k1_hw3 : k1_chk3 i v400 v402) (k1_t21 : Fin (k1_t21_loop v400 v402).trips), (k1_t23_loop v400 v402 k1_t21).OK := fun i v400 v402 k1_hw3 k1_t21 => k1_hw3.1.2.2.2.2.2.2.2.2.2.2.2.2.2.2.2.2.2.2.2.2.2.1 k1_t21
theorem k1_off295_inb : ∀ (i : grid1.Coords) (v400 : BitVec 32) (v402 : BitVec 32) (k1_hw3 : k1_chk3 i v400 v402) (k1_t21 : Fin (k1_t21_loop v400 v402).trips) (k1_t23 : Fin (k1_t23_loop v400 v402 k1_t21).trips), ∀ a, (k1_off295 v400 v402 k1_t21 k1_t23) a + S1x16.size a ≤ S72x256.size a := fun i v400 v402 k1_hw3 k1_t21 k1_t23 => k1_hw3.1.2.2.2.2.2.2.2.2.2.2.2.2.2.2.2.2.2.2.2.2.2.2.1 k1_t21 k1_t23
theorem k1_off296_inb : ∀ (i : grid1.Coords) (v400 : BitVec 32) (v402 : BitVec 32) (k1_hw3 : k1_chk3 i v400 v402) (k1_t21 : Fin (k1_t21_loop v400 v402).trips) (k1_t23 : Fin (k1_t23_loop v400 v402 k1_t21).trips), ∀ a, (k1_off296 v400 v402 k1_t21 k1_t23) a + S1x16.size a ≤ S72x256.size a := fun i v400 v402 k1_hw3 k1_t21 k1_t23 => k1_hw3.1.2.2.2.2.2.2.2.2.2.2.2.2.2.2.2.2.2.2.2.2.2.2.2.1 k1_t21 k1_t23
theorem k1_off297_inb : ∀ (i : grid1.Coords) (v400 : BitVec 32) (v402 : BitVec 32) (k1_hw3 : k1_chk3 i v400 v402) (k1_t21 : Fin (k1_t21_loop v400 v402).trips) (k1_t23 : Fin (k1_t23_loop v400 v402 k1_t21).trips), ∀ a, (k1_off297 v400 v402 k1_t21 k1_t23) a + S1x16.size a ≤ S72x256.size a := fun i v400 v402 k1_hw3 k1_t21 k1_t23 => k1_hw3.1.2.2.2.2.2.2.2.2.2.2.2.2.2.2.2.2.2.2.2.2.2.2.2.2.1 k1_t21 k1_t23
theorem k1_off298_inb : ∀ (i : grid1.Coords) (v400 : BitVec 32) (v402 : BitVec 32) (k1_hw3 : k1_chk3 i v400 v402) (k1_t21 : Fin (k1_t21_loop v400 v402).trips) (k1_t23 : Fin (k1_t23_loop v400 v402 k1_t21).trips), ∀ a, (k1_off298 v400 v402 k1_t21 k1_t23) a + S1x16.size a ≤ S72x256.size a := fun i v400 v402 k1_hw3 k1_t21 k1_t23 => k1_hw3.1.2.2.2.2.2.2.2.2.2.2.2.2.2.2.2.2.2.2.2.2.2.2.2.2.2.1 k1_t21 k1_t23
theorem k1_off299_inb : ∀ (i : grid1.Coords) (v400 : BitVec 32) (v402 : BitVec 32) (k1_hw3 : k1_chk3 i v400 v402) (k1_t21 : Fin (k1_t21_loop v400 v402).trips) (k1_t23 : Fin (k1_t23_loop v400 v402 k1_t21).trips), ∀ a, (k1_off299 v400 v402 k1_t21 k1_t23) a + S1x16.size a ≤ S72x256.size a := fun i v400 v402 k1_hw3 k1_t21 k1_t23 => k1_hw3.1.2.2.2.2.2.2.2.2.2.2.2.2.2.2.2.2.2.2.2.2.2.2.2.2.2.2.1 k1_t21 k1_t23
theorem k1_off300_inb : ∀ (i : grid1.Coords) (v400 : BitVec 32) (v402 : BitVec 32) (k1_hw3 : k1_chk3 i v400 v402) (k1_t21 : Fin (k1_t21_loop v400 v402).trips) (k1_t23 : Fin (k1_t23_loop v400 v402 k1_t21).trips), ∀ a, (k1_off300 v400 v402 k1_t21 k1_t23) a + S1x16.size a ≤ S72x256.size a := fun i v400 v402 k1_hw3 k1_t21 k1_t23 => k1_hw3.1.2.2.2.2.2.2.2.2.2.2.2.2.2.2.2.2.2.2.2.2.2.2.2.2.2.2.2.1 k1_t21 k1_t23
theorem k1_off301_inb : ∀ (i : grid1.Coords) (v400 : BitVec 32) (v402 : BitVec 32) (k1_hw3 : k1_chk3 i v400 v402) (k1_t21 : Fin (k1_t21_loop v400 v402).trips) (k1_t23 : Fin (k1_t23_loop v400 v402 k1_t21).trips), ∀ a, (k1_off301 v400 v402 k1_t21 k1_t23) a + S1x16.size a ≤ S72x256.size a := fun i v400 v402 k1_hw3 k1_t21 k1_t23 => k1_hw3.1.2.2.2.2.2.2.2.2.2.2.2.2.2.2.2.2.2.2.2.2.2.2.2.2.2.2.2.2.1 k1_t21 k1_t23
theorem k1_off302_inb : ∀ (i : grid1.Coords) (v400 : BitVec 32) (v402 : BitVec 32) (k1_hw3 : k1_chk3 i v400 v402) (k1_t21 : Fin (k1_t21_loop v400 v402).trips) (k1_t23 : Fin (k1_t23_loop v400 v402 k1_t21).trips), ∀ a, (k1_off302 v400 v402 k1_t21 k1_t23) a + S1x16.size a ≤ S72x256.size a := fun i v400 v402 k1_hw3 k1_t21 k1_t23 => k1_hw3.1.2.2.2.2.2.2.2.2.2.2.2.2.2.2.2.2.2.2.2.2.2.2.2.2.2.2.2.2.2.1 k1_t21 k1_t23
theorem k1_off303_inb : ∀ (i : grid1.Coords) (v400 : BitVec 32) (v402 : BitVec 32) (k1_hw3 : k1_chk3 i v400 v402) (k1_t21 : Fin (k1_t21_loop v400 v402).trips) (k1_t23 : Fin (k1_t23_loop v400 v402 k1_t21).trips), ∀ a, (k1_off303 v400 v402 k1_t21 k1_t23) a + S1x16.size a ≤ S72x256.size a := fun i v400 v402 k1_hw3 k1_t21 k1_t23 => k1_hw3.1.2.2.2.2.2.2.2.2.2.2.2.2.2.2.2.2.2.2.2.2.2.2.2.2.2.2.2.2.2.2.1 k1_t21 k1_t23
theorem k1_off304_inb : ∀ (i : grid1.Coords) (v400 : BitVec 32) (v402 : BitVec 32) (k1_hw3 : k1_chk3 i v400 v402) (k1_t21 : Fin (k1_t21_loop v400 v402).trips) (k1_t23 : Fin (k1_t23_loop v400 v402 k1_t21).trips), ∀ a, (k1_off304 v400 v402 k1_t21 k1_t23) a + S1x16.size a ≤ S72x256.size a := fun i v400 v402 k1_hw3 k1_t21 k1_t23 => k1_hw3.1.2.2.2.2.2.2.2.2.2.2.2.2.2.2.2.2.2.2.2.2.2.2.2.2.2.2.2.2.2.2.2 k1_t21 k1_t23
theorem k1_off305_inb : ∀ (i : grid1.Coords) (v400 : BitVec 32) (v402 : BitVec 32) (k1_hw3 : k1_chk3 i v400 v402) (k1_t21 : Fin (k1_t21_loop v400 v402).trips) (k1_t23 : Fin (k1_t23_loop v400 v402 k1_t21).trips), ∀ a, (k1_off305 v400 v402 k1_t21 k1_t23) a + S1x16.size a ≤ S72x256.size a := fun i v400 v402 k1_hw3 k1_t21 k1_t23 => k1_hw3.2.1.1 k1_t21 k1_t23
theorem k1_off306_inb : ∀ (i : grid1.Coords) (v400 : BitVec 32) (v402 : BitVec 32) (k1_hw3 : k1_chk3 i v400 v402) (k1_t21 : Fin (k1_t21_loop v400 v402).trips) (k1_t23 : Fin (k1_t23_loop v400 v402 k1_t21).trips), ∀ a, (k1_off306 v400 v402 k1_t21 k1_t23) a + S1x16.size a ≤ S72x256.size a := fun i v400 v402 k1_hw3 k1_t21 k1_t23 => k1_hw3.2.1.2.1 k1_t21 k1_t23
theorem k1_off307_inb : ∀ (i : grid1.Coords) (v400 : BitVec 32) (v402 : BitVec 32) (k1_hw3 : k1_chk3 i v400 v402) (k1_t21 : Fin (k1_t21_loop v400 v402).trips) (k1_t23 : Fin (k1_t23_loop v400 v402 k1_t21).trips), ∀ a, (k1_off307 v400 v402 k1_t21 k1_t23) a + S1x16.size a ≤ S72x256.size a := fun i v400 v402 k1_hw3 k1_t21 k1_t23 => k1_hw3.2.1.2.2.1 k1_t21 k1_t23
theorem k1_off308_inb : ∀ (i : grid1.Coords) (v400 : BitVec 32) (v402 : BitVec 32) (k1_hw3 : k1_chk3 i v400 v402) (k1_t21 : Fin (k1_t21_loop v400 v402).trips) (k1_t23 : Fin (k1_t23_loop v400 v402 k1_t21).trips), ∀ a, (k1_off308 v400 v402 k1_t21 k1_t23) a + S1x16.size a ≤ S72x256.size a := fun i v400 v402 k1_hw3 k1_t21 k1_t23 => k1_hw3.2.1.2.2.2.1 k1_t21 k1_t23
theorem k1_off309_inb : ∀ (i : grid1.Coords) (v400 : BitVec 32) (v402 : BitVec 32) (k1_hw3 : k1_chk3 i v400 v402) (k1_t21 : Fin (k1_t21_loop v400 v402).trips) (k1_t23 : Fin (k1_t23_loop v400 v402 k1_t21).trips), ∀ a, (k1_off309 v400 v402 k1_t21 k1_t23) a + S1x16.size a ≤ S72x256.size a := fun i v400 v402 k1_hw3 k1_t21 k1_t23 => k1_hw3.2.1.2.2.2.2.1 k1_t21 k1_t23
theorem k1_off310_inb : ∀ (i : grid1.Coords) (v400 : BitVec 32) (v402 : BitVec 32) (k1_hw3 : k1_chk3 i v400 v402) (k1_t21 : Fin (k1_t21_loop v400 v402).trips) (k1_t23 : Fin (k1_t23_loop v400 v402 k1_t21).trips), ∀ a, (k1_off310 v400 v402 k1_t21 k1_t23) a + S1x16.size a ≤ S72x256.size a := fun i v400 v402 k1_hw3 k1_t21 k1_t23 => k1_hw3.2.1.2.2.2.2.2.1 k1_t21 k1_t23
theorem k1_off311_inb : ∀ (i : grid1.Coords) (v400 : BitVec 32) (v402 : BitVec 32) (k1_hw3 : k1_chk3 i v400 v402) (k1_t21 : Fin (k1_t21_loop v400 v402).trips), ∀ (k1_h22 : k1_cond22 v400 v402 k1_t21 = 1#1), ∀ a, (k1_off311 i v400 v402 k1_t21) a + S72x256.size a ≤ S100000x512.size a := fun i v400 v402 k1_hw3 k1_t21 k1_h22 => k1_hw3.2.1.2.2.2.2.2.2.1 k1_t21 k1_h22
theorem k1_off312_inb : ∀ (i : grid1.Coords) (v400 : BitVec 32) (v402 : BitVec 32) (k1_hw3 : k1_chk3 i v400 v402) (k1_t21 : Fin (k1_t21_loop v400 v402).trips), ∀ (k1_h22 : k1_cond22 v400 v402 k1_t21 = 1#1), ∀ (k1_h23 : k1_cond23 v400 v402 k1_t21 = 1#1), ∀ a, (k1_off312 i v400 v402 k1_t21) a + S72x256.size a ≤ S100000x512.size a := fun i v400 v402 k1_hw3 k1_t21 k1_h22 k1_h23 => k1_hw3.2.1.2.2.2.2.2.2.2.1 k1_t21 k1_h22 k1_h23
theorem k1_t24_ok : ∀ (i : grid1.Coords) (v400 : BitVec 32) (v402 : BitVec 32) (k1_hw3 : k1_chk3 i v400 v402) (k1_t21 : Fin (k1_t21_loop v400 v402).trips), (k1_t24_loop v400 v402 k1_t21).OK := fun i v400 v402 k1_hw3 k1_t21 => k1_hw3.2.1.2.2.2.2.2.2.2.2.1 k1_t21
theorem k1_off313_inb : ∀ (i : grid1.Coords) (v400 : BitVec 32) (v402 : BitVec 32) (k1_hw3 : k1_chk3 i v400 v402) (k1_t21 : Fin (k1_t21_loop v400 v402).trips) (k1_t24 : Fin (k1_t24_loop v400 v402 k1_t21).trips), ∀ a, (k1_off313 v400 v402 k1_t21 k1_t24) a + S1x16.size a ≤ S72x256.size a := fun i v400 v402 k1_hw3 k1_t21 k1_t24 => k1_hw3.2.1.2.2.2.2.2.2.2.2.2.1 k1_t21 k1_t24
theorem k1_off314_inb : ∀ (i : grid1.Coords) (v400 : BitVec 32) (v402 : BitVec 32) (k1_hw3 : k1_chk3 i v400 v402) (k1_t21 : Fin (k1_t21_loop v400 v402).trips) (k1_t24 : Fin (k1_t24_loop v400 v402 k1_t21).trips), ∀ a, (k1_off314 v400 v402 k1_t21 k1_t24) a + S1x16.size a ≤ S72x256.size a := fun i v400 v402 k1_hw3 k1_t21 k1_t24 => k1_hw3.2.1.2.2.2.2.2.2.2.2.2.2.1 k1_t21 k1_t24
theorem k1_off315_inb : ∀ (i : grid1.Coords) (v400 : BitVec 32) (v402 : BitVec 32) (k1_hw3 : k1_chk3 i v400 v402) (k1_t21 : Fin (k1_t21_loop v400 v402).trips) (k1_t24 : Fin (k1_t24_loop v400 v402 k1_t21).trips), ∀ a, (k1_off315 v400 v402 k1_t21 k1_t24) a + S1x16.size a ≤ S72x256.size a := fun i v400 v402 k1_hw3 k1_t21 k1_t24 => k1_hw3.2.1.2.2.2.2.2.2.2.2.2.2.2.1 k1_t21 k1_t24
theorem k1_off316_inb : ∀ (i : grid1.Coords) (v400 : BitVec 32) (v402 : BitVec 32) (k1_hw3 : k1_chk3 i v400 v402) (k1_t21 : Fin (k1_t21_loop v400 v402).trips) (k1_t24 : Fin (k1_t24_loop v400 v402 k1_t21).trips), ∀ a, (k1_off316 v400 v402 k1_t21 k1_t24) a + S1x16.size a ≤ S72x256.size a := fun i v400 v402 k1_hw3 k1_t21 k1_t24 => k1_hw3.2.1.2.2.2.2.2.2.2.2.2.2.2.2.1 k1_t21 k1_t24
theorem k1_off317_inb : ∀ (i : grid1.Coords) (v400 : BitVec 32) (v402 : BitVec 32) (k1_hw3 : k1_chk3 i v400 v402) (k1_t21 : Fin (k1_t21_loop v400 v402).trips) (k1_t24 : Fin (k1_t24_loop v400 v402 k1_t21).trips), ∀ a, (k1_off317 v400 v402 k1_t21 k1_t24) a + S1x16.size a ≤ S72x256.size a := fun i v400 v402 k1_hw3 k1_t21 k1_t24 => k1_hw3.2.1.2.2.2.2.2.2.2.2.2.2.2.2.2.1 k1_t21 k1_t24
theorem k1_off318_inb : ∀ (i : grid1.Coords) (v400 : BitVec 32) (v402 : BitVec 32) (k1_hw3 : k1_chk3 i v400 v402) (k1_t21 : Fin (k1_t21_loop v400 v402).trips) (k1_t24 : Fin (k1_t24_loop v400 v402 k1_t21).trips), ∀ a, (k1_off318 v400 v402 k1_t21 k1_t24) a + S1x16.size a ≤ S72x256.size a := fun i v400 v402 k1_hw3 k1_t21 k1_t24 => k1_hw3.2.1.2.2.2.2.2.2.2.2.2.2.2.2.2.2.1 k1_t21 k1_t24
theorem k1_off319_inb : ∀ (i : grid1.Coords) (v400 : BitVec 32) (v402 : BitVec 32) (k1_hw3 : k1_chk3 i v400 v402) (k1_t21 : Fin (k1_t21_loop v400 v402).trips) (k1_t24 : Fin (k1_t24_loop v400 v402 k1_t21).trips), ∀ a, (k1_off319 v400 v402 k1_t21 k1_t24) a + S1x16.size a ≤ S72x256.size a := fun i v400 v402 k1_hw3 k1_t21 k1_t24 => k1_hw3.2.1.2.2.2.2.2.2.2.2.2.2.2.2.2.2.2.1 k1_t21 k1_t24
theorem k1_off320_inb : ∀ (i : grid1.Coords) (v400 : BitVec 32) (v402 : BitVec 32) (k1_hw3 : k1_chk3 i v400 v402) (k1_t21 : Fin (k1_t21_loop v400 v402).trips) (k1_t24 : Fin (k1_t24_loop v400 v402 k1_t21).trips), ∀ a, (k1_off320 v400 v402 k1_t21 k1_t24) a + S1x16.size a ≤ S72x256.size a := fun i v400 v402 k1_hw3 k1_t21 k1_t24 => k1_hw3.2.1.2.2.2.2.2.2.2.2.2.2.2.2.2.2.2.2.1 k1_t21 k1_t24
theorem k1_off321_inb : ∀ (i : grid1.Coords) (v400 : BitVec 32) (v402 : BitVec 32) (k1_hw3 : k1_chk3 i v400 v402) (k1_t21 : Fin (k1_t21_loop v400 v402).trips) (k1_t24 : Fin (k1_t24_loop v400 v402 k1_t21).trips), ∀ a, (k1_off321 v400 v402 k1_t21 k1_t24) a + S1x16.size a ≤ S72x256.size a := fun i v400 v402 k1_hw3 k1_t21 k1_t24 => k1_hw3.2.1.2.2.2.2.2.2.2.2.2.2.2.2.2.2.2.2.2.1 k1_t21 k1_t24
theorem k1_off322_inb : ∀ (i : grid1.Coords) (v400 : BitVec 32) (v402 : BitVec 32) (k1_hw3 : k1_chk3 i v400 v402) (k1_t21 : Fin (k1_t21_loop v400 v402).trips) (k1_t24 : Fin (k1_t24_loop v400 v402 k1_t21).trips), ∀ a, (k1_off322 v400 v402 k1_t21 k1_t24) a + S1x16.size a ≤ S72x256.size a := fun i v400 v402 k1_hw3 k1_t21 k1_t24 => k1_hw3.2.1.2.2.2.2.2.2.2.2.2.2.2.2.2.2.2.2.2.2.1 k1_t21 k1_t24
theorem k1_off323_inb : ∀ (i : grid1.Coords) (v400 : BitVec 32) (v402 : BitVec 32) (k1_hw3 : k1_chk3 i v400 v402) (k1_t21 : Fin (k1_t21_loop v400 v402).trips) (k1_t24 : Fin (k1_t24_loop v400 v402 k1_t21).trips), ∀ a, (k1_off323 v400 v402 k1_t21 k1_t24) a + S1x16.size a ≤ S72x256.size a := fun i v400 v402 k1_hw3 k1_t21 k1_t24 => k1_hw3.2.1.2.2.2.2.2.2.2.2.2.2.2.2.2.2.2.2.2.2.2.1 k1_t21 k1_t24
theorem k1_off324_inb : ∀ (i : grid1.Coords) (v400 : BitVec 32) (v402 : BitVec 32) (k1_hw3 : k1_chk3 i v400 v402) (k1_t21 : Fin (k1_t21_loop v400 v402).trips) (k1_t24 : Fin (k1_t24_loop v400 v402 k1_t21).trips), ∀ a, (k1_off324 v400 v402 k1_t21 k1_t24) a + S1x16.size a ≤ S72x256.size a := fun i v400 v402 k1_hw3 k1_t21 k1_t24 => k1_hw3.2.1.2.2.2.2.2.2.2.2.2.2.2.2.2.2.2.2.2.2.2.2.1 k1_t21 k1_t24
theorem k1_off325_inb : ∀ (i : grid1.Coords) (v400 : BitVec 32) (v402 : BitVec 32) (k1_hw3 : k1_chk3 i v400 v402) (k1_t21 : Fin (k1_t21_loop v400 v402).trips) (k1_t24 : Fin (k1_t24_loop v400 v402 k1_t21).trips), ∀ a, (k1_off325 v400 v402 k1_t21 k1_t24) a + S1x16.size a ≤ S72x256.size a := fun i v400 v402 k1_hw3 k1_t21 k1_t24 => k1_hw3.2.1.2.2.2.2.2.2.2.2.2.2.2.2.2.2.2.2.2.2.2.2.2.1 k1_t21 k1_t24
theorem k1_off326_inb : ∀ (i : grid1.Coords) (v400 : BitVec 32) (v402 : BitVec 32) (k1_hw3 : k1_chk3 i v400 v402) (k1_t21 : Fin (k1_t21_loop v400 v402).trips) (k1_t24 : Fin (k1_t24_loop v400 v402 k1_t21).trips), ∀ a, (k1_off326 v400 v402 k1_t21 k1_t24) a + S1x16.size a ≤ S72x256.size a := fun i v400 v402 k1_hw3 k1_t21 k1_t24 => k1_hw3.2.1.2.2.2.2.2.2.2.2.2.2.2.2.2.2.2.2.2.2.2.2.2.2.1 k1_t21 k1_t24
theorem k1_off327_inb : ∀ (i : grid1.Coords) (v400 : BitVec 32) (v402 : BitVec 32) (k1_hw3 : k1_chk3 i v400 v402) (k1_t21 : Fin (k1_t21_loop v400 v402).trips) (k1_t24 : Fin (k1_t24_loop v400 v402 k1_t21).trips), ∀ a, (k1_off327 v400 v402 k1_t21 k1_t24) a + S1x16.size a ≤ S72x256.size a := fun i v400 v402 k1_hw3 k1_t21 k1_t24 => k1_hw3.2.1.2.2.2.2.2.2.2.2.2.2.2.2.2.2.2.2.2.2.2.2.2.2.2.1 k1_t21 k1_t24
theorem k1_off328_inb : ∀ (i : grid1.Coords) (v400 : BitVec 32) (v402 : BitVec 32) (k1_hw3 : k1_chk3 i v400 v402) (k1_t21 : Fin (k1_t21_loop v400 v402).trips) (k1_t24 : Fin (k1_t24_loop v400 v402 k1_t21).trips), ∀ a, (k1_off328 v400 v402 k1_t21 k1_t24) a + S1x16.size a ≤ S72x256.size a := fun i v400 v402 k1_hw3 k1_t21 k1_t24 => k1_hw3.2.1.2.2.2.2.2.2.2.2.2.2.2.2.2.2.2.2.2.2.2.2.2.2.2.2.1 k1_t21 k1_t24
theorem k1_t25_ok : ∀ (i : grid1.Coords) (v400 : BitVec 32) (v402 : BitVec 32) (k1_hw3 : k1_chk3 i v400 v402) (k1_t21 : Fin (k1_t21_loop v400 v402).trips), (k1_t25_loop v400 v402 k1_t21).OK := fun i v400 v402 k1_hw3 k1_t21 => k1_hw3.2.1.2.2.2.2.2.2.2.2.2.2.2.2.2.2.2.2.2.2.2.2.2.2.2.2.2.1 k1_t21
theorem k1_off329_inb : ∀ (i : grid1.Coords) (v400 : BitVec 32) (v402 : BitVec 32) (k1_hw3 : k1_chk3 i v400 v402) (k1_t21 : Fin (k1_t21_loop v400 v402).trips) (k1_t25 : Fin (k1_t25_loop v400 v402 k1_t21).trips), ∀ a, (k1_off329 v400 v402 k1_t21 k1_t25) a + S1x16.size a ≤ S72x256.size a := fun i v400 v402 k1_hw3 k1_t21 k1_t25 => k1_hw3.2.1.2.2.2.2.2.2.2.2.2.2.2.2.2.2.2.2.2.2.2.2.2.2.2.2.2.2.1 k1_t21 k1_t25
theorem k1_off330_inb : ∀ (i : grid1.Coords) (v400 : BitVec 32) (v402 : BitVec 32) (k1_hw3 : k1_chk3 i v400 v402) (k1_t21 : Fin (k1_t21_loop v400 v402).trips) (k1_t25 : Fin (k1_t25_loop v400 v402 k1_t21).trips), ∀ a, (k1_off330 v400 v402 k1_t21 k1_t25) a + S1x16.size a ≤ S72x256.size a := fun i v400 v402 k1_hw3 k1_t21 k1_t25 => k1_hw3.2.1.2.2.2.2.2.2.2.2.2.2.2.2.2.2.2.2.2.2.2.2.2.2.2.2.2.2.2.1 k1_t21 k1_t25
theorem k1_off331_inb : ∀ (i : grid1.Coords) (v400 : BitVec 32) (v402 : BitVec 32) (k1_hw3 : k1_chk3 i v400 v402) (k1_t21 : Fin (k1_t21_loop v400 v402).trips) (k1_t25 : Fin (k1_t25_loop v400 v402 k1_t21).trips), ∀ a, (k1_off331 v400 v402 k1_t21 k1_t25) a + S1x16.size a ≤ S72x256.size a := fun i v400 v402 k1_hw3 k1_t21 k1_t25 => k1_hw3.2.1.2.2.2.2.2.2.2.2.2.2.2.2.2.2.2.2.2.2.2.2.2.2.2.2.2.2.2.2.1 k1_t21 k1_t25
theorem k1_off332_inb : ∀ (i : grid1.Coords) (v400 : BitVec 32) (v402 : BitVec 32) (k1_hw3 : k1_chk3 i v400 v402) (k1_t21 : Fin (k1_t21_loop v400 v402).trips) (k1_t25 : Fin (k1_t25_loop v400 v402 k1_t21).trips), ∀ a, (k1_off332 v400 v402 k1_t21 k1_t25) a + S1x16.size a ≤ S72x256.size a := fun i v400 v402 k1_hw3 k1_t21 k1_t25 => k1_hw3.2.1.2.2.2.2.2.2.2.2.2.2.2.2.2.2.2.2.2.2.2.2.2.2.2.2.2.2.2.2.2.1 k1_t21 k1_t25
theorem k1_off333_inb : ∀ (i : grid1.Coords) (v400 : BitVec 32) (v402 : BitVec 32) (k1_hw3 : k1_chk3 i v400 v402) (k1_t21 : Fin (k1_t21_loop v400 v402).trips) (k1_t25 : Fin (k1_t25_loop v400 v402 k1_t21).trips), ∀ a, (k1_off333 v400 v402 k1_t21 k1_t25) a + S1x16.size a ≤ S72x256.size a := fun i v400 v402 k1_hw3 k1_t21 k1_t25 => k1_hw3.2.1.2.2.2.2.2.2.2.2.2.2.2.2.2.2.2.2.2.2.2.2.2.2.2.2.2.2.2.2.2.2.1 k1_t21 k1_t25
theorem k1_off334_inb : ∀ (i : grid1.Coords) (v400 : BitVec 32) (v402 : BitVec 32) (k1_hw3 : k1_chk3 i v400 v402) (k1_t21 : Fin (k1_t21_loop v400 v402).trips) (k1_t25 : Fin (k1_t25_loop v400 v402 k1_t21).trips), ∀ a, (k1_off334 v400 v402 k1_t21 k1_t25) a + S1x16.size a ≤ S72x256.size a := fun i v400 v402 k1_hw3 k1_t21 k1_t25 => k1_hw3.2.1.2.2.2.2.2.2.2.2.2.2.2.2.2.2.2.2.2.2.2.2.2.2.2.2.2.2.2.2.2.2.2 k1_t21 k1_t25
theorem k1_off335_inb : ∀ (i : grid1.Coords) (v400 : BitVec 32) (v402 : BitVec 32) (k1_hw3 : k1_chk3 i v400 v402) (k1_t21 : Fin (k1_t21_loop v400 v402).trips) (k1_t25 : Fin (k1_t25_loop v400 v402 k1_t21).trips), ∀ a, (k1_off335 v400 v402 k1_t21 k1_t25) a + S1x16.size a ≤ S72x256.size a := fun i v400 v402 k1_hw3 k1_t21 k1_t25 => k1_hw3.2.2.1.1 k1_t21 k1_t25
theorem k1_off336_inb : ∀ (i : grid1.Coords) (v400 : BitVec 32) (v402 : BitVec 32) (k1_hw3 : k1_chk3 i v400 v402) (k1_t21 : Fin (k1_t21_loop v400 v402).trips) (k1_t25 : Fin (k1_t25_loop v400 v402 k1_t21).trips), ∀ a, (k1_off336 v400 v402 k1_t21 k1_t25) a + S1x16.size a ≤ S72x256.size a := fun i v400 v402 k1_hw3 k1_t21 k1_t25 => k1_hw3.2.2.1.2.1 k1_t21 k1_t25
theorem k1_off337_inb : ∀ (i : grid1.Coords) (v400 : BitVec 32) (v402 : BitVec 32) (k1_hw3 : k1_chk3 i v400 v402) (k1_t21 : Fin (k1_t21_loop v400 v402).trips) (k1_t25 : Fin (k1_t25_loop v400 v402 k1_t21).trips), ∀ a, (k1_off337 v400 v402 k1_t21 k1_t25) a + S1x16.size a ≤ S72x256.size a := fun i v400 v402 k1_hw3 k1_t21 k1_t25 => k1_hw3.2.2.1.2.2.1 k1_t21 k1_t25
theorem k1_off338_inb : ∀ (i : grid1.Coords) (v400 : BitVec 32) (v402 : BitVec 32) (k1_hw3 : k1_chk3 i v400 v402) (k1_t21 : Fin (k1_t21_loop v400 v402).trips) (k1_t25 : Fin (k1_t25_loop v400 v402 k1_t21).trips), ∀ a, (k1_off338 v400 v402 k1_t21 k1_t25) a + S1x16.size a ≤ S72x256.size a := fun i v400 v402 k1_hw3 k1_t21 k1_t25 => k1_hw3.2.2.1.2.2.2.1 k1_t21 k1_t25
theorem k1_off339_inb : ∀ (i : grid1.Coords) (v400 : BitVec 32) (v402 : BitVec 32) (k1_hw3 : k1_chk3 i v400 v402) (k1_t21 : Fin (k1_t21_loop v400 v402).trips) (k1_t25 : Fin (k1_t25_loop v400 v402 k1_t21).trips), ∀ a, (k1_off339 v400 v402 k1_t21 k1_t25) a + S1x16.size a ≤ S72x256.size a := fun i v400 v402 k1_hw3 k1_t21 k1_t25 => k1_hw3.2.2.1.2.2.2.2.1 k1_t21 k1_t25
theorem k1_off340_inb : ∀ (i : grid1.Coords) (v400 : BitVec 32) (v402 : BitVec 32) (k1_hw3 : k1_chk3 i v400 v402) (k1_t21 : Fin (k1_t21_loop v400 v402).trips) (k1_t25 : Fin (k1_t25_loop v400 v402 k1_t21).trips), ∀ a, (k1_off340 v400 v402 k1_t21 k1_t25) a + S1x16.size a ≤ S72x256.size a := fun i v400 v402 k1_hw3 k1_t21 k1_t25 => k1_hw3.2.2.1.2.2.2.2.2.1 k1_t21 k1_t25
theorem k1_off341_inb : ∀ (i : grid1.Coords) (v400 : BitVec 32) (v402 : BitVec 32) (k1_hw3 : k1_chk3 i v400 v402) (k1_t21 : Fin (k1_t21_loop v400 v402).trips) (k1_t25 : Fin (k1_t25_loop v400 v402 k1_t21).trips), ∀ a, (k1_off341 v400 v402 k1_t21 k1_t25) a + S1x16.size a ≤ S72x256.size a := fun i v400 v402 k1_hw3 k1_t21 k1_t25 => k1_hw3.2.2.1.2.2.2.2.2.2.1 k1_t21 k1_t25
theorem k1_off342_inb : ∀ (i : grid1.Coords) (v400 : BitVec 32) (v402 : BitVec 32) (k1_hw3 : k1_chk3 i v400 v402) (k1_t21 : Fin (k1_t21_loop v400 v402).trips) (k1_t25 : Fin (k1_t25_loop v400 v402 k1_t21).trips), ∀ a, (k1_off342 v400 v402 k1_t21 k1_t25) a + S1x16.size a ≤ S72x256.size a := fun i v400 v402 k1_hw3 k1_t21 k1_t25 => k1_hw3.2.2.1.2.2.2.2.2.2.2.1 k1_t21 k1_t25
theorem k1_off343_inb : ∀ (i : grid1.Coords) (v400 : BitVec 32) (v402 : BitVec 32) (k1_hw3 : k1_chk3 i v400 v402) (k1_t21 : Fin (k1_t21_loop v400 v402).trips) (k1_t25 : Fin (k1_t25_loop v400 v402 k1_t21).trips), ∀ a, (k1_off343 v400 v402 k1_t21 k1_t25) a + S1x16.size a ≤ S72x256.size a := fun i v400 v402 k1_hw3 k1_t21 k1_t25 => k1_hw3.2.2.1.2.2.2.2.2.2.2.2.1 k1_t21 k1_t25
theorem k1_off344_inb : ∀ (i : grid1.Coords) (v400 : BitVec 32) (v402 : BitVec 32) (k1_hw3 : k1_chk3 i v400 v402) (k1_t21 : Fin (k1_t21_loop v400 v402).trips) (k1_t25 : Fin (k1_t25_loop v400 v402 k1_t21).trips), ∀ a, (k1_off344 v400 v402 k1_t21 k1_t25) a + S1x16.size a ≤ S72x256.size a := fun i v400 v402 k1_hw3 k1_t21 k1_t25 => k1_hw3.2.2.1.2.2.2.2.2.2.2.2.2.1 k1_t21 k1_t25
theorem k1_t26_ok : ∀ (i : grid1.Coords) (v400 : BitVec 32) (v402 : BitVec 32) (k1_hw3 : k1_chk3 i v400 v402), (k1_t26_loop v400 v402).OK := fun i v400 v402 k1_hw3 => k1_hw3.2.2.1.2.2.2.2.2.2.2.2.2.2.1
theorem k1_off345_inb : ∀ (i : grid1.Coords) (v400 : BitVec 32) (v402 : BitVec 32) (k1_hw3 : k1_chk3 i v400 v402) (k1_t26 : Fin (k1_t26_loop v400 v402).trips), ∀ (k1_h24 : k1_cond24 v400 v402 k1_t26 = 1#1), ∀ a, (k1_off345 i v400 v402 k1_t26) a + S72x256.size a ≤ S100000x512.size a := fun i v400 v402 k1_hw3 k1_t26 k1_h24 => k1_hw3.2.2.1.2.2.2.2.2.2.2.2.2.2.2.1 k1_t26 k1_h24
theorem k1_off346_inb : ∀ (i : grid1.Coords) (v400 : BitVec 32) (v402 : BitVec 32) (k1_hw3 : k1_chk3 i v400 v402) (k1_t26 : Fin (k1_t26_loop v400 v402).trips), ∀ (k1_h24 : k1_cond24 v400 v402 k1_t26 = 1#1), ∀ (k1_h25 : k1_cond25 v400 v402 k1_t26 = 1#1), ∀ a, (k1_off346 i v400 v402 k1_t26) a + S72x256.size a ≤ S100000x512.size a := fun i v400 v402 k1_hw3 k1_t26 k1_h24 k1_h25 => k1_hw3.2.2.1.2.2.2.2.2.2.2.2.2.2.2.2.1 k1_t26 k1_h24 k1_h25
theorem k1_t27_ok : ∀ (i : grid1.Coords) (v400 : BitVec 32) (v402 : BitVec 32) (k1_hw3 : k1_chk3 i v400 v402) (k1_t26 : Fin (k1_t26_loop v400 v402).trips), (k1_t27_loop v400 v402 k1_t26).OK := fun i v400 v402 k1_hw3 k1_t26 => k1_hw3.2.2.1.2.2.2.2.2.2.2.2.2.2.2.2.2.1 k1_t26
theorem k1_off347_inb : ∀ (i : grid1.Coords) (v400 : BitVec 32) (v402 : BitVec 32) (k1_hw3 : k1_chk3 i v400 v402) (k1_t26 : Fin (k1_t26_loop v400 v402).trips) (k1_t27 : Fin (k1_t27_loop v400 v402 k1_t26).trips), ∀ a, (k1_off347 v400 v402 k1_t26 k1_t27) a + S1x16.size a ≤ S72x256.size a := fun i v400 v402 k1_hw3 k1_t26 k1_t27 => k1_hw3.2.2.1.2.2.2.2.2.2.2.2.2.2.2.2.2.2.1 k1_t26 k1_t27
theorem k1_off348_inb : ∀ (i : grid1.Coords) (v400 : BitVec 32) (v402 : BitVec 32) (k1_hw3 : k1_chk3 i v400 v402) (k1_t26 : Fin (k1_t26_loop v400 v402).trips) (k1_t27 : Fin (k1_t27_loop v400 v402 k1_t26).trips), ∀ a, (k1_off348 v400 v402 k1_t26 k1_t27) a + S1x16.size a ≤ S72x256.size a := fun i v400 v402 k1_hw3 k1_t26 k1_t27 => k1_hw3.2.2.1.2.2.2.2.2.2.2.2.2.2.2.2.2.2.2.1 k1_t26 k1_t27
theorem k1_off349_inb : ∀ (i : grid1.Coords) (v400 : BitVec 32) (v402 : BitVec 32) (k1_hw3 : k1_chk3 i v400 v402) (k1_t26 : Fin (k1_t26_loop v400 v402).trips) (k1_t27 : Fin (k1_t27_loop v400 v402 k1_t26).trips), ∀ a, (k1_off349 v400 v402 k1_t26 k1_t27) a + S1x16.size a ≤ S72x256.size a := fun i v400 v402 k1_hw3 k1_t26 k1_t27 => k1_hw3.2.2.1.2.2.2.2.2.2.2.2.2.2.2.2.2.2.2.2.1 k1_t26 k1_t27
theorem k1_off350_inb : ∀ (i : grid1.Coords) (v400 : BitVec 32) (v402 : BitVec 32) (k1_hw3 : k1_chk3 i v400 v402) (k1_t26 : Fin (k1_t26_loop v400 v402).trips) (k1_t27 : Fin (k1_t27_loop v400 v402 k1_t26).trips), ∀ a, (k1_off350 v400 v402 k1_t26 k1_t27) a + S1x16.size a ≤ S72x256.size a := fun i v400 v402 k1_hw3 k1_t26 k1_t27 => k1_hw3.2.2.1.2.2.2.2.2.2.2.2.2.2.2.2.2.2.2.2.2.1 k1_t26 k1_t27
theorem k1_off351_inb : ∀ (i : grid1.Coords) (v400 : BitVec 32) (v402 : BitVec 32) (k1_hw3 : k1_chk3 i v400 v402) (k1_t26 : Fin (k1_t26_loop v400 v402).trips) (k1_t27 : Fin (k1_t27_loop v400 v402 k1_t26).trips), ∀ a, (k1_off351 v400 v402 k1_t26 k1_t27) a + S1x16.size a ≤ S72x256.size a := fun i v400 v402 k1_hw3 k1_t26 k1_t27 => k1_hw3.2.2.1.2.2.2.2.2.2.2.2.2.2.2.2.2.2.2.2.2.2.1 k1_t26 k1_t27
theorem k1_off352_inb : ∀ (i : grid1.Coords) (v400 : BitVec 32) (v402 : BitVec 32) (k1_hw3 : k1_chk3 i v400 v402) (k1_t26 : Fin (k1_t26_loop v400 v402).trips) (k1_t27 : Fin (k1_t27_loop v400 v402 k1_t26).trips), ∀ a, (k1_off352 v400 v402 k1_t26 k1_t27) a + S1x16.size a ≤ S72x256.size a := fun i v400 v402 k1_hw3 k1_t26 k1_t27 => k1_hw3.2.2.1.2.2.2.2.2.2.2.2.2.2.2.2.2.2.2.2.2.2.2.1 k1_t26 k1_t27
theorem k1_off353_inb : ∀ (i : grid1.Coords) (v400 : BitVec 32) (v402 : BitVec 32) (k1_hw3 : k1_chk3 i v400 v402) (k1_t26 : Fin (k1_t26_loop v400 v402).trips) (k1_t27 : Fin (k1_t27_loop v400 v402 k1_t26).trips), ∀ a, (k1_off353 v400 v402 k1_t26 k1_t27) a + S1x16.size a ≤ S72x256.size a := fun i v400 v402 k1_hw3 k1_t26 k1_t27 => k1_hw3.2.2.1.2.2.2.2.2.2.2.2.2.2.2.2.2.2.2.2.2.2.2.2.1 k1_t26 k1_t27
theorem k1_off354_inb : ∀ (i : grid1.Coords) (v400 : BitVec 32) (v402 : BitVec 32) (k1_hw3 : k1_chk3 i v400 v402) (k1_t26 : Fin (k1_t26_loop v400 v402).trips) (k1_t27 : Fin (k1_t27_loop v400 v402 k1_t26).trips), ∀ a, (k1_off354 v400 v402 k1_t26 k1_t27) a + S1x16.size a ≤ S72x256.size a := fun i v400 v402 k1_hw3 k1_t26 k1_t27 => k1_hw3.2.2.1.2.2.2.2.2.2.2.2.2.2.2.2.2.2.2.2.2.2.2.2.2.1 k1_t26 k1_t27
theorem k1_off355_inb : ∀ (i : grid1.Coords) (v400 : BitVec 32) (v402 : BitVec 32) (k1_hw3 : k1_chk3 i v400 v402) (k1_t26 : Fin (k1_t26_loop v400 v402).trips) (k1_t27 : Fin (k1_t27_loop v400 v402 k1_t26).trips), ∀ a, (k1_off355 v400 v402 k1_t26 k1_t27) a + S1x16.size a ≤ S72x256.size a := fun i v400 v402 k1_hw3 k1_t26 k1_t27 => k1_hw3.2.2.1.2.2.2.2.2.2.2.2.2.2.2.2.2.2.2.2.2.2.2.2.2.2.1 k1_t26 k1_t27
theorem k1_off356_inb : ∀ (i : grid1.Coords) (v400 : BitVec 32) (v402 : BitVec 32) (k1_hw3 : k1_chk3 i v400 v402) (k1_t26 : Fin (k1_t26_loop v400 v402).trips) (k1_t27 : Fin (k1_t27_loop v400 v402 k1_t26).trips), ∀ a, (k1_off356 v400 v402 k1_t26 k1_t27) a + S1x16.size a ≤ S72x256.size a := fun i v400 v402 k1_hw3 k1_t26 k1_t27 => k1_hw3.2.2.1.2.2.2.2.2.2.2.2.2.2.2.2.2.2.2.2.2.2.2.2.2.2.2.1 k1_t26 k1_t27
theorem k1_off357_inb : ∀ (i : grid1.Coords) (v400 : BitVec 32) (v402 : BitVec 32) (k1_hw3 : k1_chk3 i v400 v402) (k1_t26 : Fin (k1_t26_loop v400 v402).trips) (k1_t27 : Fin (k1_t27_loop v400 v402 k1_t26).trips), ∀ a, (k1_off357 v400 v402 k1_t26 k1_t27) a + S1x16.size a ≤ S72x256.size a := fun i v400 v402 k1_hw3 k1_t26 k1_t27 => k1_hw3.2.2.1.2.2.2.2.2.2.2.2.2.2.2.2.2.2.2.2.2.2.2.2.2.2.2.2.1 k1_t26 k1_t27
theorem k1_off358_inb : ∀ (i : grid1.Coords) (v400 : BitVec 32) (v402 : BitVec 32) (k1_hw3 : k1_chk3 i v400 v402) (k1_t26 : Fin (k1_t26_loop v400 v402).trips) (k1_t27 : Fin (k1_t27_loop v400 v402 k1_t26).trips), ∀ a, (k1_off358 v400 v402 k1_t26 k1_t27) a + S1x16.size a ≤ S72x256.size a := fun i v400 v402 k1_hw3 k1_t26 k1_t27 => k1_hw3.2.2.1.2.2.2.2.2.2.2.2.2.2.2.2.2.2.2.2.2.2.2.2.2.2.2.2.2.1 k1_t26 k1_t27
theorem k1_off359_inb : ∀ (i : grid1.Coords) (v400 : BitVec 32) (v402 : BitVec 32) (k1_hw3 : k1_chk3 i v400 v402) (k1_t26 : Fin (k1_t26_loop v400 v402).trips) (k1_t27 : Fin (k1_t27_loop v400 v402 k1_t26).trips), ∀ a, (k1_off359 v400 v402 k1_t26 k1_t27) a + S1x16.size a ≤ S72x256.size a := fun i v400 v402 k1_hw3 k1_t26 k1_t27 => k1_hw3.2.2.1.2.2.2.2.2.2.2.2.2.2.2.2.2.2.2.2.2.2.2.2.2.2.2.2.2.2.1 k1_t26 k1_t27
theorem k1_off360_inb : ∀ (i : grid1.Coords) (v400 : BitVec 32) (v402 : BitVec 32) (k1_hw3 : k1_chk3 i v400 v402) (k1_t26 : Fin (k1_t26_loop v400 v402).trips) (k1_t27 : Fin (k1_t27_loop v400 v402 k1_t26).trips), ∀ a, (k1_off360 v400 v402 k1_t26 k1_t27) a + S1x16.size a ≤ S72x256.size a := fun i v400 v402 k1_hw3 k1_t26 k1_t27 => k1_hw3.2.2.1.2.2.2.2.2.2.2.2.2.2.2.2.2.2.2.2.2.2.2.2.2.2.2.2.2.2.2.1 k1_t26 k1_t27
theorem k1_off361_inb : ∀ (i : grid1.Coords) (v400 : BitVec 32) (v402 : BitVec 32) (k1_hw3 : k1_chk3 i v400 v402) (k1_t26 : Fin (k1_t26_loop v400 v402).trips) (k1_t27 : Fin (k1_t27_loop v400 v402 k1_t26).trips), ∀ a, (k1_off361 v400 v402 k1_t26 k1_t27) a + S1x16.size a ≤ S72x256.size a := fun i v400 v402 k1_hw3 k1_t26 k1_t27 => k1_hw3.2.2.1.2.2.2.2.2.2.2.2.2.2.2.2.2.2.2.2.2.2.2.2.2.2.2.2.2.2.2.2.1 k1_t26 k1_t27
theorem k1_off362_inb : ∀ (i : grid1.Coords) (v400 : BitVec 32) (v402 : BitVec 32) (k1_hw3 : k1_chk3 i v400 v402) (k1_t26 : Fin (k1_t26_loop v400 v402).trips) (k1_t27 : Fin (k1_t27_loop v400 v402 k1_t26).trips), ∀ a, (k1_off362 v400 v402 k1_t26 k1_t27) a + S1x16.size a ≤ S72x256.size a := fun i v400 v402 k1_hw3 k1_t26 k1_t27 => k1_hw3.2.2.1.2.2.2.2.2.2.2.2.2.2.2.2.2.2.2.2.2.2.2.2.2.2.2.2.2.2.2.2.2.1 k1_t26 k1_t27
theorem k1_t28_ok : ∀ (i : grid1.Coords) (v400 : BitVec 32) (v402 : BitVec 32) (k1_hw3 : k1_chk3 i v400 v402) (k1_t26 : Fin (k1_t26_loop v400 v402).trips), (k1_t28_loop v400 v402 k1_t26).OK := fun i v400 v402 k1_hw3 k1_t26 => k1_hw3.2.2.1.2.2.2.2.2.2.2.2.2.2.2.2.2.2.2.2.2.2.2.2.2.2.2.2.2.2.2.2.2.2.1 k1_t26
theorem k1_off363_inb : ∀ (i : grid1.Coords) (v400 : BitVec 32) (v402 : BitVec 32) (k1_hw3 : k1_chk3 i v400 v402) (k1_t26 : Fin (k1_t26_loop v400 v402).trips) (k1_t28 : Fin (k1_t28_loop v400 v402 k1_t26).trips), ∀ a, (k1_off363 v400 v402 k1_t26 k1_t28) a + S1x16.size a ≤ S72x256.size a := fun i v400 v402 k1_hw3 k1_t26 k1_t28 => k1_hw3.2.2.1.2.2.2.2.2.2.2.2.2.2.2.2.2.2.2.2.2.2.2.2.2.2.2.2.2.2.2.2.2.2.2 k1_t26 k1_t28
theorem k1_off364_inb : ∀ (i : grid1.Coords) (v400 : BitVec 32) (v402 : BitVec 32) (k1_hw3 : k1_chk3 i v400 v402) (k1_t26 : Fin (k1_t26_loop v400 v402).trips) (k1_t28 : Fin (k1_t28_loop v400 v402 k1_t26).trips), ∀ a, (k1_off364 v400 v402 k1_t26 k1_t28) a + S1x16.size a ≤ S72x256.size a := fun i v400 v402 k1_hw3 k1_t26 k1_t28 => k1_hw3.2.2.2.1.1 k1_t26 k1_t28
theorem k1_off365_inb : ∀ (i : grid1.Coords) (v400 : BitVec 32) (v402 : BitVec 32) (k1_hw3 : k1_chk3 i v400 v402) (k1_t26 : Fin (k1_t26_loop v400 v402).trips) (k1_t28 : Fin (k1_t28_loop v400 v402 k1_t26).trips), ∀ a, (k1_off365 v400 v402 k1_t26 k1_t28) a + S1x16.size a ≤ S72x256.size a := fun i v400 v402 k1_hw3 k1_t26 k1_t28 => k1_hw3.2.2.2.1.2.1 k1_t26 k1_t28
theorem k1_off366_inb : ∀ (i : grid1.Coords) (v400 : BitVec 32) (v402 : BitVec 32) (k1_hw3 : k1_chk3 i v400 v402) (k1_t26 : Fin (k1_t26_loop v400 v402).trips) (k1_t28 : Fin (k1_t28_loop v400 v402 k1_t26).trips), ∀ a, (k1_off366 v400 v402 k1_t26 k1_t28) a + S1x16.size a ≤ S72x256.size a := fun i v400 v402 k1_hw3 k1_t26 k1_t28 => k1_hw3.2.2.2.1.2.2.1 k1_t26 k1_t28
theorem k1_off367_inb : ∀ (i : grid1.Coords) (v400 : BitVec 32) (v402 : BitVec 32) (k1_hw3 : k1_chk3 i v400 v402) (k1_t26 : Fin (k1_t26_loop v400 v402).trips) (k1_t28 : Fin (k1_t28_loop v400 v402 k1_t26).trips), ∀ a, (k1_off367 v400 v402 k1_t26 k1_t28) a + S1x16.size a ≤ S72x256.size a := fun i v400 v402 k1_hw3 k1_t26 k1_t28 => k1_hw3.2.2.2.1.2.2.2.1 k1_t26 k1_t28
theorem k1_off368_inb : ∀ (i : grid1.Coords) (v400 : BitVec 32) (v402 : BitVec 32) (k1_hw3 : k1_chk3 i v400 v402) (k1_t26 : Fin (k1_t26_loop v400 v402).trips) (k1_t28 : Fin (k1_t28_loop v400 v402 k1_t26).trips), ∀ a, (k1_off368 v400 v402 k1_t26 k1_t28) a + S1x16.size a ≤ S72x256.size a := fun i v400 v402 k1_hw3 k1_t26 k1_t28 => k1_hw3.2.2.2.1.2.2.2.2.1 k1_t26 k1_t28
theorem k1_off369_inb : ∀ (i : grid1.Coords) (v400 : BitVec 32) (v402 : BitVec 32) (k1_hw3 : k1_chk3 i v400 v402) (k1_t26 : Fin (k1_t26_loop v400 v402).trips) (k1_t28 : Fin (k1_t28_loop v400 v402 k1_t26).trips), ∀ a, (k1_off369 v400 v402 k1_t26 k1_t28) a + S1x16.size a ≤ S72x256.size a := fun i v400 v402 k1_hw3 k1_t26 k1_t28 => k1_hw3.2.2.2.1.2.2.2.2.2.1 k1_t26 k1_t28
theorem k1_off370_inb : ∀ (i : grid1.Coords) (v400 : BitVec 32) (v402 : BitVec 32) (k1_hw3 : k1_chk3 i v400 v402) (k1_t26 : Fin (k1_t26_loop v400 v402).trips) (k1_t28 : Fin (k1_t28_loop v400 v402 k1_t26).trips), ∀ a, (k1_off370 v400 v402 k1_t26 k1_t28) a + S1x16.size a ≤ S72x256.size a := fun i v400 v402 k1_hw3 k1_t26 k1_t28 => k1_hw3.2.2.2.1.2.2.2.2.2.2.1 k1_t26 k1_t28
theorem k1_off371_inb : ∀ (i : grid1.Coords) (v400 : BitVec 32) (v402 : BitVec 32) (k1_hw3 : k1_chk3 i v400 v402) (k1_t26 : Fin (k1_t26_loop v400 v402).trips) (k1_t28 : Fin (k1_t28_loop v400 v402 k1_t26).trips), ∀ a, (k1_off371 v400 v402 k1_t26 k1_t28) a + S1x16.size a ≤ S72x256.size a := fun i v400 v402 k1_hw3 k1_t26 k1_t28 => k1_hw3.2.2.2.1.2.2.2.2.2.2.2.1 k1_t26 k1_t28
theorem k1_off372_inb : ∀ (i : grid1.Coords) (v400 : BitVec 32) (v402 : BitVec 32) (k1_hw3 : k1_chk3 i v400 v402) (k1_t26 : Fin (k1_t26_loop v400 v402).trips) (k1_t28 : Fin (k1_t28_loop v400 v402 k1_t26).trips), ∀ a, (k1_off372 v400 v402 k1_t26 k1_t28) a + S1x16.size a ≤ S72x256.size a := fun i v400 v402 k1_hw3 k1_t26 k1_t28 => k1_hw3.2.2.2.1.2.2.2.2.2.2.2.2.1 k1_t26 k1_t28
theorem k1_off373_inb : ∀ (i : grid1.Coords) (v400 : BitVec 32) (v402 : BitVec 32) (k1_hw3 : k1_chk3 i v400 v402) (k1_t26 : Fin (k1_t26_loop v400 v402).trips) (k1_t28 : Fin (k1_t28_loop v400 v402 k1_t26).trips), ∀ a, (k1_off373 v400 v402 k1_t26 k1_t28) a + S1x16.size a ≤ S72x256.size a := fun i v400 v402 k1_hw3 k1_t26 k1_t28 => k1_hw3.2.2.2.1.2.2.2.2.2.2.2.2.2.1 k1_t26 k1_t28
theorem k1_off374_inb : ∀ (i : grid1.Coords) (v400 : BitVec 32) (v402 : BitVec 32) (k1_hw3 : k1_chk3 i v400 v402) (k1_t26 : Fin (k1_t26_loop v400 v402).trips) (k1_t28 : Fin (k1_t28_loop v400 v402 k1_t26).trips), ∀ a, (k1_off374 v400 v402 k1_t26 k1_t28) a + S1x16.size a ≤ S72x256.size a := fun i v400 v402 k1_hw3 k1_t26 k1_t28 => k1_hw3.2.2.2.1.2.2.2.2.2.2.2.2.2.2.1 k1_t26 k1_t28
theorem k1_off375_inb : ∀ (i : grid1.Coords) (v400 : BitVec 32) (v402 : BitVec 32) (k1_hw3 : k1_chk3 i v400 v402) (k1_t26 : Fin (k1_t26_loop v400 v402).trips) (k1_t28 : Fin (k1_t28_loop v400 v402 k1_t26).trips), ∀ a, (k1_off375 v400 v402 k1_t26 k1_t28) a + S1x16.size a ≤ S72x256.size a := fun i v400 v402 k1_hw3 k1_t26 k1_t28 => k1_hw3.2.2.2.1.2.2.2.2.2.2.2.2.2.2.2.1 k1_t26 k1_t28
theorem k1_off376_inb : ∀ (i : grid1.Coords) (v400 : BitVec 32) (v402 : BitVec 32) (k1_hw3 : k1_chk3 i v400 v402) (k1_t26 : Fin (k1_t26_loop v400 v402).trips) (k1_t28 : Fin (k1_t28_loop v400 v402 k1_t26).trips), ∀ a, (k1_off376 v400 v402 k1_t26 k1_t28) a + S1x16.size a ≤ S72x256.size a := fun i v400 v402 k1_hw3 k1_t26 k1_t28 => k1_hw3.2.2.2.1.2.2.2.2.2.2.2.2.2.2.2.2.1 k1_t26 k1_t28
theorem k1_off377_inb : ∀ (i : grid1.Coords) (v400 : BitVec 32) (v402 : BitVec 32) (k1_hw3 : k1_chk3 i v400 v402) (k1_t26 : Fin (k1_t26_loop v400 v402).trips) (k1_t28 : Fin (k1_t28_loop v400 v402 k1_t26).trips), ∀ a, (k1_off377 v400 v402 k1_t26 k1_t28) a + S1x16.size a ≤ S72x256.size a := fun i v400 v402 k1_hw3 k1_t26 k1_t28 => k1_hw3.2.2.2.1.2.2.2.2.2.2.2.2.2.2.2.2.2.1 k1_t26 k1_t28
theorem k1_off378_inb : ∀ (i : grid1.Coords) (v400 : BitVec 32) (v402 : BitVec 32) (k1_hw3 : k1_chk3 i v400 v402) (k1_t26 : Fin (k1_t26_loop v400 v402).trips) (k1_t28 : Fin (k1_t28_loop v400 v402 k1_t26).trips), ∀ a, (k1_off378 v400 v402 k1_t26 k1_t28) a + S1x16.size a ≤ S72x256.size a := fun i v400 v402 k1_hw3 k1_t26 k1_t28 => k1_hw3.2.2.2.1.2.2.2.2.2.2.2.2.2.2.2.2.2.2.1 k1_t26 k1_t28
theorem k1_off379_inb : ∀ (i : grid1.Coords) (v400 : BitVec 32) (v402 : BitVec 32) (k1_hw3 : k1_chk3 i v400 v402) (k1_t26 : Fin (k1_t26_loop v400 v402).trips), ∀ (k1_h26 : k1_cond26 v400 v402 k1_t26 = 1#1), ∀ a, (k1_off379 i v400 v402 k1_t26) a + S72x256.size a ≤ S100000x512.size a := fun i v400 v402 k1_hw3 k1_t26 k1_h26 => k1_hw3.2.2.2.1.2.2.2.2.2.2.2.2.2.2.2.2.2.2.2.1 k1_t26 k1_h26
theorem k1_off380_inb : ∀ (i : grid1.Coords) (v400 : BitVec 32) (v402 : BitVec 32) (k1_hw3 : k1_chk3 i v400 v402) (k1_t26 : Fin (k1_t26_loop v400 v402).trips), ∀ (k1_h26 : k1_cond26 v400 v402 k1_t26 = 1#1), ∀ (k1_h27 : k1_cond27 v400 v402 k1_t26 = 1#1), ∀ a, (k1_off380 i v400 v402 k1_t26) a + S72x256.size a ≤ S100000x512.size a := fun i v400 v402 k1_hw3 k1_t26 k1_h26 k1_h27 => k1_hw3.2.2.2.1.2.2.2.2.2.2.2.2.2.2.2.2.2.2.2.2.1 k1_t26 k1_h26 k1_h27
theorem k1_t29_ok : ∀ (i : grid1.Coords) (v400 : BitVec 32) (v402 : BitVec 32) (k1_hw3 : k1_chk3 i v400 v402) (k1_t26 : Fin (k1_t26_loop v400 v402).trips), (k1_t29_loop v400 v402 k1_t26).OK := fun i v400 v402 k1_hw3 k1_t26 => k1_hw3.2.2.2.1.2.2.2.2.2.2.2.2.2.2.2.2.2.2.2.2.2.1 k1_t26
theorem k1_off381_inb : ∀ (i : grid1.Coords) (v400 : BitVec 32) (v402 : BitVec 32) (k1_hw3 : k1_chk3 i v400 v402) (k1_t26 : Fin (k1_t26_loop v400 v402).trips) (k1_t29 : Fin (k1_t29_loop v400 v402 k1_t26).trips), ∀ a, (k1_off381 v400 v402 k1_t26 k1_t29) a + S1x16.size a ≤ S72x256.size a := fun i v400 v402 k1_hw3 k1_t26 k1_t29 => k1_hw3.2.2.2.1.2.2.2.2.2.2.2.2.2.2.2.2.2.2.2.2.2.2.1 k1_t26 k1_t29
theorem k1_off382_inb : ∀ (i : grid1.Coords) (v400 : BitVec 32) (v402 : BitVec 32) (k1_hw3 : k1_chk3 i v400 v402) (k1_t26 : Fin (k1_t26_loop v400 v402).trips) (k1_t29 : Fin (k1_t29_loop v400 v402 k1_t26).trips), ∀ a, (k1_off382 v400 v402 k1_t26 k1_t29) a + S1x16.size a ≤ S72x256.size a := fun i v400 v402 k1_hw3 k1_t26 k1_t29 => k1_hw3.2.2.2.1.2.2.2.2.2.2.2.2.2.2.2.2.2.2.2.2.2.2.2.1 k1_t26 k1_t29
theorem k1_off383_inb : ∀ (i : grid1.Coords) (v400 : BitVec 32) (v402 : BitVec 32) (k1_hw3 : k1_chk3 i v400 v402) (k1_t26 : Fin (k1_t26_loop v400 v402).trips) (k1_t29 : Fin (k1_t29_loop v400 v402 k1_t26).trips), ∀ a, (k1_off383 v400 v402 k1_t26 k1_t29) a + S1x16.size a ≤ S72x256.size a := fun i v400 v402 k1_hw3 k1_t26 k1_t29 => k1_hw3.2.2.2.1.2.2.2.2.2.2.2.2.2.2.2.2.2.2.2.2.2.2.2.2.1 k1_t26 k1_t29
theorem k1_off384_inb : ∀ (i : grid1.Coords) (v400 : BitVec 32) (v402 : BitVec 32) (k1_hw3 : k1_chk3 i v400 v402) (k1_t26 : Fin (k1_t26_loop v400 v402).trips) (k1_t29 : Fin (k1_t29_loop v400 v402 k1_t26).trips), ∀ a, (k1_off384 v400 v402 k1_t26 k1_t29) a + S1x16.size a ≤ S72x256.size a := fun i v400 v402 k1_hw3 k1_t26 k1_t29 => k1_hw3.2.2.2.1.2.2.2.2.2.2.2.2.2.2.2.2.2.2.2.2.2.2.2.2.2.1 k1_t26 k1_t29
theorem k1_off385_inb : ∀ (i : grid1.Coords) (v400 : BitVec 32) (v402 : BitVec 32) (k1_hw3 : k1_chk3 i v400 v402) (k1_t26 : Fin (k1_t26_loop v400 v402).trips) (k1_t29 : Fin (k1_t29_loop v400 v402 k1_t26).trips), ∀ a, (k1_off385 v400 v402 k1_t26 k1_t29) a + S1x16.size a ≤ S72x256.size a := fun i v400 v402 k1_hw3 k1_t26 k1_t29 => k1_hw3.2.2.2.1.2.2.2.2.2.2.2.2.2.2.2.2.2.2.2.2.2.2.2.2.2.2.1 k1_t26 k1_t29
theorem k1_off386_inb : ∀ (i : grid1.Coords) (v400 : BitVec 32) (v402 : BitVec 32) (k1_hw3 : k1_chk3 i v400 v402) (k1_t26 : Fin (k1_t26_loop v400 v402).trips) (k1_t29 : Fin (k1_t29_loop v400 v402 k1_t26).trips), ∀ a, (k1_off386 v400 v402 k1_t26 k1_t29) a + S1x16.size a ≤ S72x256.size a := fun i v400 v402 k1_hw3 k1_t26 k1_t29 => k1_hw3.2.2.2.1.2.2.2.2.2.2.2.2.2.2.2.2.2.2.2.2.2.2.2.2.2.2.2.1 k1_t26 k1_t29
theorem k1_off387_inb : ∀ (i : grid1.Coords) (v400 : BitVec 32) (v402 : BitVec 32) (k1_hw3 : k1_chk3 i v400 v402) (k1_t26 : Fin (k1_t26_loop v400 v402).trips) (k1_t29 : Fin (k1_t29_loop v400 v402 k1_t26).trips), ∀ a, (k1_off387 v400 v402 k1_t26 k1_t29) a + S1x16.size a ≤ S72x256.size a := fun i v400 v402 k1_hw3 k1_t26 k1_t29 => k1_hw3.2.2.2.1.2.2.2.2.2.2.2.2.2.2.2.2.2.2.2.2.2.2.2.2.2.2.2.2.1 k1_t26 k1_t29
theorem k1_off388_inb : ∀ (i : grid1.Coords) (v400 : BitVec 32) (v402 : BitVec 32) (k1_hw3 : k1_chk3 i v400 v402) (k1_t26 : Fin (k1_t26_loop v400 v402).trips) (k1_t29 : Fin (k1_t29_loop v400 v402 k1_t26).trips), ∀ a, (k1_off388 v400 v402 k1_t26 k1_t29) a + S1x16.size a ≤ S72x256.size a := fun i v400 v402 k1_hw3 k1_t26 k1_t29 => k1_hw3.2.2.2.1.2.2.2.2.2.2.2.2.2.2.2.2.2.2.2.2.2.2.2.2.2.2.2.2.2.1 k1_t26 k1_t29
theorem k1_off389_inb : ∀ (i : grid1.Coords) (v400 : BitVec 32) (v402 : BitVec 32) (k1_hw3 : k1_chk3 i v400 v402) (k1_t26 : Fin (k1_t26_loop v400 v402).trips) (k1_t29 : Fin (k1_t29_loop v400 v402 k1_t26).trips), ∀ a, (k1_off389 v400 v402 k1_t26 k1_t29) a + S1x16.size a ≤ S72x256.size a := fun i v400 v402 k1_hw3 k1_t26 k1_t29 => k1_hw3.2.2.2.1.2.2.2.2.2.2.2.2.2.2.2.2.2.2.2.2.2.2.2.2.2.2.2.2.2.2.1 k1_t26 k1_t29
theorem k1_off390_inb : ∀ (i : grid1.Coords) (v400 : BitVec 32) (v402 : BitVec 32) (k1_hw3 : k1_chk3 i v400 v402) (k1_t26 : Fin (k1_t26_loop v400 v402).trips) (k1_t29 : Fin (k1_t29_loop v400 v402 k1_t26).trips), ∀ a, (k1_off390 v400 v402 k1_t26 k1_t29) a + S1x16.size a ≤ S72x256.size a := fun i v400 v402 k1_hw3 k1_t26 k1_t29 => k1_hw3.2.2.2.1.2.2.2.2.2.2.2.2.2.2.2.2.2.2.2.2.2.2.2.2.2.2.2.2.2.2.2.1 k1_t26 k1_t29
theorem k1_off391_inb : ∀ (i : grid1.Coords) (v400 : BitVec 32) (v402 : BitVec 32) (k1_hw3 : k1_chk3 i v400 v402) (k1_t26 : Fin (k1_t26_loop v400 v402).trips) (k1_t29 : Fin (k1_t29_loop v400 v402 k1_t26).trips), ∀ a, (k1_off391 v400 v402 k1_t26 k1_t29) a + S1x16.size a ≤ S72x256.size a := fun i v400 v402 k1_hw3 k1_t26 k1_t29 => k1_hw3.2.2.2.1.2.2.2.2.2.2.2.2.2.2.2.2.2.2.2.2.2.2.2.2.2.2.2.2.2.2.2.2.1 k1_t26 k1_t29
theorem k1_off392_inb : ∀ (i : grid1.Coords) (v400 : BitVec 32) (v402 : BitVec 32) (k1_hw3 : k1_chk3 i v400 v402) (k1_t26 : Fin (k1_t26_loop v400 v402).trips) (k1_t29 : Fin (k1_t29_loop v400 v402 k1_t26).trips), ∀ a, (k1_off392 v400 v402 k1_t26 k1_t29) a + S1x16.size a ≤ S72x256.size a := fun i v400 v402 k1_hw3 k1_t26 k1_t29 => k1_hw3.2.2.2.1.2.2.2.2.2.2.2.2.2.2.2.2.2.2.2.2.2.2.2.2.2.2.2.2.2.2.2.2.2.1 k1_t26 k1_t29
theorem k1_off393_inb : ∀ (i : grid1.Coords) (v400 : BitVec 32) (v402 : BitVec 32) (k1_hw3 : k1_chk3 i v400 v402) (k1_t26 : Fin (k1_t26_loop v400 v402).trips) (k1_t29 : Fin (k1_t29_loop v400 v402 k1_t26).trips), ∀ a, (k1_off393 v400 v402 k1_t26 k1_t29) a + S1x16.size a ≤ S72x256.size a := fun i v400 v402 k1_hw3 k1_t26 k1_t29 => k1_hw3.2.2.2.1.2.2.2.2.2.2.2.2.2.2.2.2.2.2.2.2.2.2.2.2.2.2.2.2.2.2.2.2.2.2.1 k1_t26 k1_t29
theorem k1_off394_inb : ∀ (i : grid1.Coords) (v400 : BitVec 32) (v402 : BitVec 32) (k1_hw3 : k1_chk3 i v400 v402) (k1_t26 : Fin (k1_t26_loop v400 v402).trips) (k1_t29 : Fin (k1_t29_loop v400 v402 k1_t26).trips), ∀ a, (k1_off394 v400 v402 k1_t26 k1_t29) a + S1x16.size a ≤ S72x256.size a := fun i v400 v402 k1_hw3 k1_t26 k1_t29 => k1_hw3.2.2.2.1.2.2.2.2.2.2.2.2.2.2.2.2.2.2.2.2.2.2.2.2.2.2.2.2.2.2.2.2.2.2.2 k1_t26 k1_t29
theorem k1_off395_inb : ∀ (i : grid1.Coords) (v400 : BitVec 32) (v402 : BitVec 32) (k1_hw3 : k1_chk3 i v400 v402) (k1_t26 : Fin (k1_t26_loop v400 v402).trips) (k1_t29 : Fin (k1_t29_loop v400 v402 k1_t26).trips), ∀ a, (k1_off395 v400 v402 k1_t26 k1_t29) a + S1x16.size a ≤ S72x256.size a := fun i v400 v402 k1_hw3 k1_t26 k1_t29 => k1_hw3.2.2.2.2.1 k1_t26 k1_t29
theorem k1_off396_inb : ∀ (i : grid1.Coords) (v400 : BitVec 32) (v402 : BitVec 32) (k1_hw3 : k1_chk3 i v400 v402) (k1_t26 : Fin (k1_t26_loop v400 v402).trips) (k1_t29 : Fin (k1_t29_loop v400 v402 k1_t26).trips), ∀ a, (k1_off396 v400 v402 k1_t26 k1_t29) a + S1x16.size a ≤ S72x256.size a := fun i v400 v402 k1_hw3 k1_t26 k1_t29 => k1_hw3.2.2.2.2.2.1 k1_t26 k1_t29
theorem k1_t30_ok : ∀ (i : grid1.Coords) (v400 : BitVec 32) (v402 : BitVec 32) (k1_hw3 : k1_chk3 i v400 v402) (k1_t26 : Fin (k1_t26_loop v400 v402).trips), (k1_t30_loop v400 v402 k1_t26).OK := fun i v400 v402 k1_hw3 k1_t26 => k1_hw3.2.2.2.2.2.2.1 k1_t26
theorem k1_off397_inb : ∀ (i : grid1.Coords) (v400 : BitVec 32) (v402 : BitVec 32) (k1_hw3 : k1_chk3 i v400 v402) (k1_t26 : Fin (k1_t26_loop v400 v402).trips) (k1_t30 : Fin (k1_t30_loop v400 v402 k1_t26).trips), ∀ a, (k1_off397 v400 v402 k1_t26 k1_t30) a + S1x16.size a ≤ S72x256.size a := fun i v400 v402 k1_hw3 k1_t26 k1_t30 => k1_hw3.2.2.2.2.2.2.2.1 k1_t26 k1_t30
theorem k1_off398_inb : ∀ (i : grid1.Coords) (v400 : BitVec 32) (v402 : BitVec 32) (k1_hw3 : k1_chk3 i v400 v402) (k1_t26 : Fin (k1_t26_loop v400 v402).trips) (k1_t30 : Fin (k1_t30_loop v400 v402 k1_t26).trips), ∀ a, (k1_off398 v400 v402 k1_t26 k1_t30) a + S1x16.size a ≤ S72x256.size a := fun i v400 v402 k1_hw3 k1_t26 k1_t30 => k1_hw3.2.2.2.2.2.2.2.2.1 k1_t26 k1_t30
theorem k1_off399_inb : ∀ (i : grid1.Coords) (v400 : BitVec 32) (v402 : BitVec 32) (k1_hw3 : k1_chk3 i v400 v402) (k1_t26 : Fin (k1_t26_loop v400 v402).trips) (k1_t30 : Fin (k1_t30_loop v400 v402 k1_t26).trips), ∀ a, (k1_off399 v400 v402 k1_t26 k1_t30) a + S1x16.size a ≤ S72x256.size a := fun i v400 v402 k1_hw3 k1_t26 k1_t30 => k1_hw3.2.2.2.2.2.2.2.2.2.1 k1_t26 k1_t30
theorem k1_off400_inb : ∀ (i : grid1.Coords) (v400 : BitVec 32) (v402 : BitVec 32) (k1_hw3 : k1_chk3 i v400 v402) (k1_t26 : Fin (k1_t26_loop v400 v402).trips) (k1_t30 : Fin (k1_t30_loop v400 v402 k1_t26).trips), ∀ a, (k1_off400 v400 v402 k1_t26 k1_t30) a + S1x16.size a ≤ S72x256.size a := fun i v400 v402 k1_hw3 k1_t26 k1_t30 => k1_hw3.2.2.2.2.2.2.2.2.2.2.1 k1_t26 k1_t30
theorem k1_off401_inb : ∀ (i : grid1.Coords) (v400 : BitVec 32) (v402 : BitVec 32) (k1_hw3 : k1_chk3 i v400 v402) (k1_t26 : Fin (k1_t26_loop v400 v402).trips) (k1_t30 : Fin (k1_t30_loop v400 v402 k1_t26).trips), ∀ a, (k1_off401 v400 v402 k1_t26 k1_t30) a + S1x16.size a ≤ S72x256.size a := fun i v400 v402 k1_hw3 k1_t26 k1_t30 => k1_hw3.2.2.2.2.2.2.2.2.2.2.2.1 k1_t26 k1_t30
theorem k1_off402_inb : ∀ (i : grid1.Coords) (v400 : BitVec 32) (v402 : BitVec 32) (k1_hw3 : k1_chk3 i v400 v402) (k1_t26 : Fin (k1_t26_loop v400 v402).trips) (k1_t30 : Fin (k1_t30_loop v400 v402 k1_t26).trips), ∀ a, (k1_off402 v400 v402 k1_t26 k1_t30) a + S1x16.size a ≤ S72x256.size a := fun i v400 v402 k1_hw3 k1_t26 k1_t30 => k1_hw3.2.2.2.2.2.2.2.2.2.2.2.2.1 k1_t26 k1_t30
theorem k1_off403_inb : ∀ (i : grid1.Coords) (v400 : BitVec 32) (v402 : BitVec 32) (k1_hw3 : k1_chk3 i v400 v402) (k1_t26 : Fin (k1_t26_loop v400 v402).trips) (k1_t30 : Fin (k1_t30_loop v400 v402 k1_t26).trips), ∀ a, (k1_off403 v400 v402 k1_t26 k1_t30) a + S1x16.size a ≤ S72x256.size a := fun i v400 v402 k1_hw3 k1_t26 k1_t30 => k1_hw3.2.2.2.2.2.2.2.2.2.2.2.2.2.1 k1_t26 k1_t30
theorem k1_off404_inb : ∀ (i : grid1.Coords) (v400 : BitVec 32) (v402 : BitVec 32) (k1_hw3 : k1_chk3 i v400 v402) (k1_t26 : Fin (k1_t26_loop v400 v402).trips) (k1_t30 : Fin (k1_t30_loop v400 v402 k1_t26).trips), ∀ a, (k1_off404 v400 v402 k1_t26 k1_t30) a + S1x16.size a ≤ S72x256.size a := fun i v400 v402 k1_hw3 k1_t26 k1_t30 => k1_hw3.2.2.2.2.2.2.2.2.2.2.2.2.2.2.1 k1_t26 k1_t30
theorem k1_off405_inb : ∀ (i : grid1.Coords) (v400 : BitVec 32) (v402 : BitVec 32) (k1_hw3 : k1_chk3 i v400 v402) (k1_t26 : Fin (k1_t26_loop v400 v402).trips) (k1_t30 : Fin (k1_t30_loop v400 v402 k1_t26).trips), ∀ a, (k1_off405 v400 v402 k1_t26 k1_t30) a + S1x16.size a ≤ S72x256.size a := fun i v400 v402 k1_hw3 k1_t26 k1_t30 => k1_hw3.2.2.2.2.2.2.2.2.2.2.2.2.2.2.2.1 k1_t26 k1_t30
theorem k1_off406_inb : ∀ (i : grid1.Coords) (v400 : BitVec 32) (v402 : BitVec 32) (k1_hw3 : k1_chk3 i v400 v402) (k1_t26 : Fin (k1_t26_loop v400 v402).trips) (k1_t30 : Fin (k1_t30_loop v400 v402 k1_t26).trips), ∀ a, (k1_off406 v400 v402 k1_t26 k1_t30) a + S1x16.size a ≤ S72x256.size a := fun i v400 v402 k1_hw3 k1_t26 k1_t30 => k1_hw3.2.2.2.2.2.2.2.2.2.2.2.2.2.2.2.2.1 k1_t26 k1_t30
theorem k1_off407_inb : ∀ (i : grid1.Coords) (v400 : BitVec 32) (v402 : BitVec 32) (k1_hw3 : k1_chk3 i v400 v402) (k1_t26 : Fin (k1_t26_loop v400 v402).trips) (k1_t30 : Fin (k1_t30_loop v400 v402 k1_t26).trips), ∀ a, (k1_off407 v400 v402 k1_t26 k1_t30) a + S1x16.size a ≤ S72x256.size a := fun i v400 v402 k1_hw3 k1_t26 k1_t30 => k1_hw3.2.2.2.2.2.2.2.2.2.2.2.2.2.2.2.2.2.1 k1_t26 k1_t30
theorem k1_off408_inb : ∀ (i : grid1.Coords) (v400 : BitVec 32) (v402 : BitVec 32) (k1_hw3 : k1_chk3 i v400 v402) (k1_t26 : Fin (k1_t26_loop v400 v402).trips) (k1_t30 : Fin (k1_t30_loop v400 v402 k1_t26).trips), ∀ a, (k1_off408 v400 v402 k1_t26 k1_t30) a + S1x16.size a ≤ S72x256.size a := fun i v400 v402 k1_hw3 k1_t26 k1_t30 => k1_hw3.2.2.2.2.2.2.2.2.2.2.2.2.2.2.2.2.2.2.1 k1_t26 k1_t30
theorem k1_off409_inb : ∀ (i : grid1.Coords) (v400 : BitVec 32) (v402 : BitVec 32) (k1_hw3 : k1_chk3 i v400 v402) (k1_t26 : Fin (k1_t26_loop v400 v402).trips) (k1_t30 : Fin (k1_t30_loop v400 v402 k1_t26).trips), ∀ a, (k1_off409 v400 v402 k1_t26 k1_t30) a + S1x16.size a ≤ S72x256.size a := fun i v400 v402 k1_hw3 k1_t26 k1_t30 => k1_hw3.2.2.2.2.2.2.2.2.2.2.2.2.2.2.2.2.2.2.2.1 k1_t26 k1_t30
theorem k1_off410_inb : ∀ (i : grid1.Coords) (v400 : BitVec 32) (v402 : BitVec 32) (k1_hw3 : k1_chk3 i v400 v402) (k1_t26 : Fin (k1_t26_loop v400 v402).trips) (k1_t30 : Fin (k1_t30_loop v400 v402 k1_t26).trips), ∀ a, (k1_off410 v400 v402 k1_t26 k1_t30) a + S1x16.size a ≤ S72x256.size a := fun i v400 v402 k1_hw3 k1_t26 k1_t30 => k1_hw3.2.2.2.2.2.2.2.2.2.2.2.2.2.2.2.2.2.2.2.2.1 k1_t26 k1_t30
theorem k1_off411_inb : ∀ (i : grid1.Coords) (v400 : BitVec 32) (v402 : BitVec 32) (k1_hw3 : k1_chk3 i v400 v402) (k1_t26 : Fin (k1_t26_loop v400 v402).trips) (k1_t30 : Fin (k1_t30_loop v400 v402 k1_t26).trips), ∀ a, (k1_off411 v400 v402 k1_t26 k1_t30) a + S1x16.size a ≤ S72x256.size a := fun i v400 v402 k1_hw3 k1_t26 k1_t30 => k1_hw3.2.2.2.2.2.2.2.2.2.2.2.2.2.2.2.2.2.2.2.2.2.1 k1_t26 k1_t30
theorem k1_off412_inb : ∀ (i : grid1.Coords) (v400 : BitVec 32) (v402 : BitVec 32) (k1_hw3 : k1_chk3 i v400 v402) (k1_t26 : Fin (k1_t26_loop v400 v402).trips) (k1_t30 : Fin (k1_t30_loop v400 v402 k1_t26).trips), ∀ a, (k1_off412 v400 v402 k1_t26 k1_t30) a + S1x16.size a ≤ S72x256.size a := fun i v400 v402 k1_hw3 k1_t26 k1_t30 => k1_hw3.2.2.2.2.2.2.2.2.2.2.2.2.2.2.2.2.2.2.2.2.2.2 k1_t26 k1_t30

def k1_off413 (i : grid1.Coords) (v582 : BitVec 32) : Fin 2 → Nat :=
  let c0_i32_1408 : BitVec 32 := 0#32
  let v2949 : BitVec 32 := Scalar.addi v582 c0_i32_1408
  let c0_i32_1410 : BitVec 32 := 0#32
  let v2951 : BitVec 1 := Scalar.cmpi .sgt v2949 c0_i32_1410
  let v2952 : BitVec 32 := Scalar.extui v2951
  let c0_i32_1411 : BitVec 32 := 0#32
  let v2953 : BitVec 1 := Scalar.cmpi .slt v2949 c0_i32_1411
  let v2954 : BitVec 32 := Scalar.extui v2953
  let v2955 : BitVec 32 := Scalar.subi v2952 v2954
  let c8_i32_1409 : BitVec 32 := 8#32
  let c0_i32_1412 : BitVec 32 := 0#32
  let v2956 : BitVec 1 := Scalar.cmpi .sgt c8_i32_1409 c0_i32_1412
  let v2957 : BitVec 32 := Scalar.extui v2956
  let c0_i32_1413 : BitVec 32 := 0#32
  let v2958 : BitVec 1 := Scalar.cmpi .slt c8_i32_1409 c0_i32_1413
  let v2959 : BitVec 32 := Scalar.extui v2958
  let v2960 : BitVec 32 := Scalar.subi v2957 v2959
  let v2961 : BitVec 1 := Scalar.cmpi .ne v2955 v2960
  let v2962 : BitVec 32 := Scalar.remsi v2949 c8_i32_1409
  let c0_i32_1414 : BitVec 32 := 0#32
  let v2963 : BitVec 1 := Scalar.cmpi .ne v2962 c0_i32_1414
  let v2964 : BitVec 1 := Scalar.andi v2961 v2963
  let v2950 : BitVec 32 := Scalar.divsi v2949 c8_i32_1409
  let c1_i32_1415 : BitVec 32 := 1#32
  let v2965 : BitVec 32 := Scalar.subi v2950 c1_i32_1415
  let v2966 : BitVec 32 := Scalar.select v2964 v2965 v2950
  let c8_i32_1416 : BitVec 32 := 8#32
  let v2967 : BitVec 32 := Scalar.muli v2966 c8_i32_1416
  let c99928_i32 : BitVec 32 := 99928#32
  let v2968 : BitVec 32 := Scalar.minsi v2967 c99928_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v2968.toNat, v29.toNat]
def k1_cond28 (v582 : BitVec 32) (v584 : BitVec 32) : BitVec 1 :=
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c0_i32_273 : BitVec 32 := 0#32
  let v607 : BitVec 1 := Scalar.cmpi .sgt v606 c0_i32_273
  let v608 : BitVec 32 := Scalar.extui v607
  let c0_i32_274 : BitVec 32 := 0#32
  let v609 : BitVec 1 := Scalar.cmpi .ne v608 c0_i32_274
  v609

@[reducible] def k1_t31_loop (v582 : BitVec 32) (v584 : BitVec 32) : Scf.Loop 32 :=
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_285 : BitVec 32 := 1#32
  ⟨c0_i32_283, v632, c1_i32_285⟩
def k1_off414 (i : grid1.Coords) (v582 : BitVec 32) (v584 : BitVec 32) (k1_t31 : Fin (k1_t31_loop v582 v584).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1446 : BitVec 32 := 64#32
  let v3026 : BitVec 32 := Scalar.muli v2949 c64_i32_1446
  let v3027 : BitVec 32 := Scalar.addi v582 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond29 (v582 : BitVec 32) (v584 : BitVec 32) (k1_t31 : Fin (k1_t31_loop v582 v584).trips) : BitVec 1 :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let v2950 : BitVec 1 := Scalar.cmpi .slt v2949 v606
  let v2951 : BitVec 32 := Scalar.extui v2950
  let c0_i32_1409 : BitVec 32 := 0#32
  let v2952 : BitVec 1 := Scalar.cmpi .ne v2951 c0_i32_1409
  v2952

def k1_off415 (i : grid1.Coords) (v582 : BitVec 32) (v584 : BitVec 32) (k1_t31 : Fin (k1_t31_loop v582 v584).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v582 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond30 (v582 : BitVec 32) (v584 : BitVec 32) (k1_t31 : Fin (k1_t31_loop v582 v584).trips) : BitVec 1 :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c1_i32_1456 : BitVec 32 := 1#32
  let v3049 : BitVec 32 := Scalar.addi v2949 c1_i32_1456
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let v3050 : BitVec 1 := Scalar.cmpi .slt v3049 v606
  let v3051 : BitVec 32 := Scalar.extui v3050
  let c0_i32_1457 : BitVec 32 := 0#32
  let v3052 : BitVec 1 := Scalar.cmpi .ne v3051 c0_i32_1457
  v3052

@[reducible] def k1_t32_loop (v582 : BitVec 32) (v584 : BitVec 32) (k1_t31 : Fin (k1_t31_loop v582 v584).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off416 (v582 : BitVec 32) (v584 : BitVec 32) (k1_t31 : Fin (k1_t31_loop v582 v584).trips) (k1_t32 : Fin (k1_t32_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t32
  let v3026 : BitVec 32 := Scalar.addi v2976 arg46
  let v3027 : Index := Scalar.indexCast v3026
  let c0_1446 : Index := 0#32
  ![v3027.toNat, 0]
def k1_off417 (v582 : BitVec 32) (v584 : BitVec 32) (k1_t31 : Fin (k1_t31_loop v582 v584).trips) (k1_t32 : Fin (k1_t32_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t32
  let v3026 : BitVec 32 := Scalar.addi v2976 arg46
  let v3032 : Index := Scalar.indexCast v3026
  let c16_1447 : Index := 16#32
  ![v3032.toNat, 16]
def k1_off418 (v582 : BitVec 32) (v584 : BitVec 32) (k1_t31 : Fin (k1_t31_loop v582 v584).trips) (k1_t32 : Fin (k1_t32_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t32
  let v3026 : BitVec 32 := Scalar.addi v2976 arg46
  let v3037 : Index := Scalar.indexCast v3026
  let c32_1448 : Index := 32#32
  ![v3037.toNat, 32]
def k1_off419 (v582 : BitVec 32) (v584 : BitVec 32) (k1_t31 : Fin (k1_t31_loop v582 v584).trips) (k1_t32 : Fin (k1_t32_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t32
  let v3026 : BitVec 32 := Scalar.addi v2976 arg46
  let v3042 : Index := Scalar.indexCast v3026
  let c48_1449 : Index := 48#32
  ![v3042.toNat, 48]
def k1_off420 (v582 : BitVec 32) (v584 : BitVec 32) (k1_t31 : Fin (k1_t31_loop v582 v584).trips) (k1_t32 : Fin (k1_t32_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t32
  let v3026 : BitVec 32 := Scalar.addi v2976 arg46
  let v3047 : Index := Scalar.indexCast v3026
  let c64_1450 : Index := 64#32
  ![v3047.toNat, 64]
def k1_off421 (v582 : BitVec 32) (v584 : BitVec 32) (k1_t31 : Fin (k1_t31_loop v582 v584).trips) (k1_t32 : Fin (k1_t32_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t32
  let v3026 : BitVec 32 := Scalar.addi v2976 arg46
  let v3052 : Index := Scalar.indexCast v3026
  let c80_1451 : Index := 80#32
  ![v3052.toNat, 80]
def k1_off422 (v582 : BitVec 32) (v584 : BitVec 32) (k1_t31 : Fin (k1_t31_loop v582 v584).trips) (k1_t32 : Fin (k1_t32_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t32
  let v3026 : BitVec 32 := Scalar.addi v2976 arg46
  let v3057 : Index := Scalar.indexCast v3026
  let c96_1452 : Index := 96#32
  ![v3057.toNat, 96]
def k1_off423 (v582 : BitVec 32) (v584 : BitVec 32) (k1_t31 : Fin (k1_t31_loop v582 v584).trips) (k1_t32 : Fin (k1_t32_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t32
  let v3026 : BitVec 32 := Scalar.addi v2976 arg46
  let v3062 : Index := Scalar.indexCast v3026
  let c112_1453 : Index := 112#32
  ![v3062.toNat, 112]
def k1_off424 (v582 : BitVec 32) (v584 : BitVec 32) (k1_t31 : Fin (k1_t31_loop v582 v584).trips) (k1_t32 : Fin (k1_t32_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t32
  let v3026 : BitVec 32 := Scalar.addi v2976 arg46
  let v3067 : Index := Scalar.indexCast v3026
  let c128_1454 : Index := 128#32
  ![v3067.toNat, 128]
def k1_off425 (v582 : BitVec 32) (v584 : BitVec 32) (k1_t31 : Fin (k1_t31_loop v582 v584).trips) (k1_t32 : Fin (k1_t32_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t32
  let v3026 : BitVec 32 := Scalar.addi v2976 arg46
  let v3072 : Index := Scalar.indexCast v3026
  let c144_1455 : Index := 144#32
  ![v3072.toNat, 144]
def k1_off426 (v582 : BitVec 32) (v584 : BitVec 32) (k1_t31 : Fin (k1_t31_loop v582 v584).trips) (k1_t32 : Fin (k1_t32_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t32
  let v3026 : BitVec 32 := Scalar.addi v2976 arg46
  let v3077 : Index := Scalar.indexCast v3026
  let c160_1456 : Index := 160#32
  ![v3077.toNat, 160]
def k1_off427 (v582 : BitVec 32) (v584 : BitVec 32) (k1_t31 : Fin (k1_t31_loop v582 v584).trips) (k1_t32 : Fin (k1_t32_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t32
  let v3026 : BitVec 32 := Scalar.addi v2976 arg46
  let v3082 : Index := Scalar.indexCast v3026
  let c176_1457 : Index := 176#32
  ![v3082.toNat, 176]
def k1_off428 (v582 : BitVec 32) (v584 : BitVec 32) (k1_t31 : Fin (k1_t31_loop v582 v584).trips) (k1_t32 : Fin (k1_t32_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t32
  let v3026 : BitVec 32 := Scalar.addi v2976 arg46
  let v3087 : Index := Scalar.indexCast v3026
  let c192_1458 : Index := 192#32
  ![v3087.toNat, 192]
def k1_off429 (v582 : BitVec 32) (v584 : BitVec 32) (k1_t31 : Fin (k1_t31_loop v582 v584).trips) (k1_t32 : Fin (k1_t32_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t32
  let v3026 : BitVec 32 := Scalar.addi v2976 arg46
  let v3092 : Index := Scalar.indexCast v3026
  let c208_1459 : Index := 208#32
  ![v3092.toNat, 208]
def k1_off430 (v582 : BitVec 32) (v584 : BitVec 32) (k1_t31 : Fin (k1_t31_loop v582 v584).trips) (k1_t32 : Fin (k1_t32_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t32
  let v3026 : BitVec 32 := Scalar.addi v2976 arg46
  let v3097 : Index := Scalar.indexCast v3026
  let c224_1460 : Index := 224#32
  ![v3097.toNat, 224]
def k1_off431 (v582 : BitVec 32) (v584 : BitVec 32) (k1_t31 : Fin (k1_t31_loop v582 v584).trips) (k1_t32 : Fin (k1_t32_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t32
  let v3026 : BitVec 32 := Scalar.addi v2976 arg46
  let v3102 : Index := Scalar.indexCast v3026
  let c240_1461 : Index := 240#32
  ![v3102.toNat, 240]
@[reducible] def k1_t33_loop (v582 : BitVec 32) (v584 : BitVec 32) (k1_t31 : Fin (k1_t31_loop v582 v584).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off432 (v582 : BitVec 32) (v584 : BitVec 32) (k1_t31 : Fin (k1_t31_loop v582 v584).trips) (k1_t33 : Fin (k1_t33_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t33
  let v3026 : BitVec 32 := Scalar.addi v2976 arg46
  let v3027 : Index := Scalar.indexCast v3026
  let c0_1446 : Index := 0#32
  ![v3027.toNat, 0]
def k1_off433 (v582 : BitVec 32) (v584 : BitVec 32) (k1_t31 : Fin (k1_t31_loop v582 v584).trips) (k1_t33 : Fin (k1_t33_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t33
  let v3026 : BitVec 32 := Scalar.addi v2976 arg46
  let v3032 : Index := Scalar.indexCast v3026
  let c16_1447 : Index := 16#32
  ![v3032.toNat, 16]
def k1_off434 (v582 : BitVec 32) (v584 : BitVec 32) (k1_t31 : Fin (k1_t31_loop v582 v584).trips) (k1_t33 : Fin (k1_t33_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t33
  let v3026 : BitVec 32 := Scalar.addi v2976 arg46
  let v3037 : Index := Scalar.indexCast v3026
  let c32_1448 : Index := 32#32
  ![v3037.toNat, 32]
def k1_off435 (v582 : BitVec 32) (v584 : BitVec 32) (k1_t31 : Fin (k1_t31_loop v582 v584).trips) (k1_t33 : Fin (k1_t33_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t33
  let v3026 : BitVec 32 := Scalar.addi v2976 arg46
  let v3042 : Index := Scalar.indexCast v3026
  let c48_1449 : Index := 48#32
  ![v3042.toNat, 48]
def k1_off436 (v582 : BitVec 32) (v584 : BitVec 32) (k1_t31 : Fin (k1_t31_loop v582 v584).trips) (k1_t33 : Fin (k1_t33_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t33
  let v3026 : BitVec 32 := Scalar.addi v2976 arg46
  let v3047 : Index := Scalar.indexCast v3026
  let c64_1450 : Index := 64#32
  ![v3047.toNat, 64]
def k1_off437 (v582 : BitVec 32) (v584 : BitVec 32) (k1_t31 : Fin (k1_t31_loop v582 v584).trips) (k1_t33 : Fin (k1_t33_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t33
  let v3026 : BitVec 32 := Scalar.addi v2976 arg46
  let v3052 : Index := Scalar.indexCast v3026
  let c80_1451 : Index := 80#32
  ![v3052.toNat, 80]
def k1_off438 (v582 : BitVec 32) (v584 : BitVec 32) (k1_t31 : Fin (k1_t31_loop v582 v584).trips) (k1_t33 : Fin (k1_t33_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t33
  let v3026 : BitVec 32 := Scalar.addi v2976 arg46
  let v3057 : Index := Scalar.indexCast v3026
  let c96_1452 : Index := 96#32
  ![v3057.toNat, 96]
def k1_off439 (v582 : BitVec 32) (v584 : BitVec 32) (k1_t31 : Fin (k1_t31_loop v582 v584).trips) (k1_t33 : Fin (k1_t33_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t33
  let v3026 : BitVec 32 := Scalar.addi v2976 arg46
  let v3062 : Index := Scalar.indexCast v3026
  let c112_1453 : Index := 112#32
  ![v3062.toNat, 112]
def k1_off440 (v582 : BitVec 32) (v584 : BitVec 32) (k1_t31 : Fin (k1_t31_loop v582 v584).trips) (k1_t33 : Fin (k1_t33_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t33
  let v3026 : BitVec 32 := Scalar.addi v2976 arg46
  let v3067 : Index := Scalar.indexCast v3026
  let c128_1454 : Index := 128#32
  ![v3067.toNat, 128]
def k1_off441 (v582 : BitVec 32) (v584 : BitVec 32) (k1_t31 : Fin (k1_t31_loop v582 v584).trips) (k1_t33 : Fin (k1_t33_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t33
  let v3026 : BitVec 32 := Scalar.addi v2976 arg46
  let v3072 : Index := Scalar.indexCast v3026
  let c144_1455 : Index := 144#32
  ![v3072.toNat, 144]
def k1_off442 (v582 : BitVec 32) (v584 : BitVec 32) (k1_t31 : Fin (k1_t31_loop v582 v584).trips) (k1_t33 : Fin (k1_t33_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t33
  let v3026 : BitVec 32 := Scalar.addi v2976 arg46
  let v3077 : Index := Scalar.indexCast v3026
  let c160_1456 : Index := 160#32
  ![v3077.toNat, 160]
def k1_off443 (v582 : BitVec 32) (v584 : BitVec 32) (k1_t31 : Fin (k1_t31_loop v582 v584).trips) (k1_t33 : Fin (k1_t33_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t33
  let v3026 : BitVec 32 := Scalar.addi v2976 arg46
  let v3082 : Index := Scalar.indexCast v3026
  let c176_1457 : Index := 176#32
  ![v3082.toNat, 176]
def k1_off444 (v582 : BitVec 32) (v584 : BitVec 32) (k1_t31 : Fin (k1_t31_loop v582 v584).trips) (k1_t33 : Fin (k1_t33_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t33
  let v3026 : BitVec 32 := Scalar.addi v2976 arg46
  let v3087 : Index := Scalar.indexCast v3026
  let c192_1458 : Index := 192#32
  ![v3087.toNat, 192]
def k1_off445 (v582 : BitVec 32) (v584 : BitVec 32) (k1_t31 : Fin (k1_t31_loop v582 v584).trips) (k1_t33 : Fin (k1_t33_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t33
  let v3026 : BitVec 32 := Scalar.addi v2976 arg46
  let v3092 : Index := Scalar.indexCast v3026
  let c208_1459 : Index := 208#32
  ![v3092.toNat, 208]
def k1_off446 (v582 : BitVec 32) (v584 : BitVec 32) (k1_t31 : Fin (k1_t31_loop v582 v584).trips) (k1_t33 : Fin (k1_t33_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t33
  let v3026 : BitVec 32 := Scalar.addi v2976 arg46
  let v3097 : Index := Scalar.indexCast v3026
  let c224_1460 : Index := 224#32
  ![v3097.toNat, 224]
def k1_off447 (v582 : BitVec 32) (v584 : BitVec 32) (k1_t31 : Fin (k1_t31_loop v582 v584).trips) (k1_t33 : Fin (k1_t33_loop v582 v584 k1_t31).trips) : Fin 2 → Nat :=
  let c2_i32_1408 : BitVec 32 := 2#32
  let c0_i32_283 : BitVec 32 := 0#32
  let c1_i32_285 : BitVec 32 := 1#32
  let arg13 : BitVec 32 := Scf.iv c0_i32_283 c1_i32_285 k1_t31
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t33
  let v3026 : BitVec 32 := Scalar.addi v2976 arg46
  let v3102 : Index := Scalar.indexCast v3026
  let c240_1461 : Index := 240#32
  ![v3102.toNat, 240]
def k1_off448 (i : grid1.Coords) (v582 : BitVec 32) (v584 : BitVec 32) (k1_t31 : Fin (k1_t31_loop v582 v584).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v582 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond31 (v582 : BitVec 32) (v584 : BitVec 32) (k1_t31 : Fin (k1_t31_loop v582 v584).trips) : BitVec 1 :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let v2989 : BitVec 1 := Scalar.cmpi .slt v2988 v606
  let v2990 : BitVec 32 := Scalar.extui v2989
  let c0_i32_1428 : BitVec 32 := 0#32
  let v2991 : BitVec 1 := Scalar.cmpi .ne v2990 c0_i32_1428
  v2991

def k1_off449 (i : grid1.Coords) (v582 : BitVec 32) (v584 : BitVec 32) (k1_t31 : Fin (k1_t31_loop v582 v584).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v582 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond32 (v582 : BitVec 32) (v584 : BitVec 32) (k1_t31 : Fin (k1_t31_loop v582 v584).trips) : BitVec 1 :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let v3050 : BitVec 1 := Scalar.cmpi .slt v3049 v606
  let v3051 : BitVec 32 := Scalar.extui v3050
  let c0_i32_1457 : BitVec 32 := 0#32
  let v3052 : BitVec 1 := Scalar.cmpi .ne v3051 c0_i32_1457
  v3052

@[reducible] def k1_t34_loop (v582 : BitVec 32) (v584 : BitVec 32) (k1_t31 : Fin (k1_t31_loop v582 v584).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off450 (v582 : BitVec 32) (v584 : BitVec 32) (k1_t31 : Fin (k1_t31_loop v582 v584).trips) (k1_t34 : Fin (k1_t34_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t34
  let v3026 : BitVec 32 := Scalar.addi v3015 arg46
  let v3027 : Index := Scalar.indexCast v3026
  let c0_1446 : Index := 0#32
  ![v3027.toNat, 0]
def k1_off451 (v582 : BitVec 32) (v584 : BitVec 32) (k1_t31 : Fin (k1_t31_loop v582 v584).trips) (k1_t34 : Fin (k1_t34_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t34
  let v3026 : BitVec 32 := Scalar.addi v3015 arg46
  let v3032 : Index := Scalar.indexCast v3026
  let c16_1447 : Index := 16#32
  ![v3032.toNat, 16]
def k1_off452 (v582 : BitVec 32) (v584 : BitVec 32) (k1_t31 : Fin (k1_t31_loop v582 v584).trips) (k1_t34 : Fin (k1_t34_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t34
  let v3026 : BitVec 32 := Scalar.addi v3015 arg46
  let v3037 : Index := Scalar.indexCast v3026
  let c32_1448 : Index := 32#32
  ![v3037.toNat, 32]
def k1_off453 (v582 : BitVec 32) (v584 : BitVec 32) (k1_t31 : Fin (k1_t31_loop v582 v584).trips) (k1_t34 : Fin (k1_t34_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t34
  let v3026 : BitVec 32 := Scalar.addi v3015 arg46
  let v3042 : Index := Scalar.indexCast v3026
  let c48_1449 : Index := 48#32
  ![v3042.toNat, 48]
def k1_off454 (v582 : BitVec 32) (v584 : BitVec 32) (k1_t31 : Fin (k1_t31_loop v582 v584).trips) (k1_t34 : Fin (k1_t34_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t34
  let v3026 : BitVec 32 := Scalar.addi v3015 arg46
  let v3047 : Index := Scalar.indexCast v3026
  let c64_1450 : Index := 64#32
  ![v3047.toNat, 64]
def k1_off455 (v582 : BitVec 32) (v584 : BitVec 32) (k1_t31 : Fin (k1_t31_loop v582 v584).trips) (k1_t34 : Fin (k1_t34_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t34
  let v3026 : BitVec 32 := Scalar.addi v3015 arg46
  let v3052 : Index := Scalar.indexCast v3026
  let c80_1451 : Index := 80#32
  ![v3052.toNat, 80]
def k1_off456 (v582 : BitVec 32) (v584 : BitVec 32) (k1_t31 : Fin (k1_t31_loop v582 v584).trips) (k1_t34 : Fin (k1_t34_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t34
  let v3026 : BitVec 32 := Scalar.addi v3015 arg46
  let v3057 : Index := Scalar.indexCast v3026
  let c96_1452 : Index := 96#32
  ![v3057.toNat, 96]
def k1_off457 (v582 : BitVec 32) (v584 : BitVec 32) (k1_t31 : Fin (k1_t31_loop v582 v584).trips) (k1_t34 : Fin (k1_t34_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t34
  let v3026 : BitVec 32 := Scalar.addi v3015 arg46
  let v3062 : Index := Scalar.indexCast v3026
  let c112_1453 : Index := 112#32
  ![v3062.toNat, 112]
def k1_off458 (v582 : BitVec 32) (v584 : BitVec 32) (k1_t31 : Fin (k1_t31_loop v582 v584).trips) (k1_t34 : Fin (k1_t34_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t34
  let v3026 : BitVec 32 := Scalar.addi v3015 arg46
  let v3067 : Index := Scalar.indexCast v3026
  let c128_1454 : Index := 128#32
  ![v3067.toNat, 128]
def k1_off459 (v582 : BitVec 32) (v584 : BitVec 32) (k1_t31 : Fin (k1_t31_loop v582 v584).trips) (k1_t34 : Fin (k1_t34_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t34
  let v3026 : BitVec 32 := Scalar.addi v3015 arg46
  let v3072 : Index := Scalar.indexCast v3026
  let c144_1455 : Index := 144#32
  ![v3072.toNat, 144]
def k1_off460 (v582 : BitVec 32) (v584 : BitVec 32) (k1_t31 : Fin (k1_t31_loop v582 v584).trips) (k1_t34 : Fin (k1_t34_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t34
  let v3026 : BitVec 32 := Scalar.addi v3015 arg46
  let v3077 : Index := Scalar.indexCast v3026
  let c160_1456 : Index := 160#32
  ![v3077.toNat, 160]
def k1_off461 (v582 : BitVec 32) (v584 : BitVec 32) (k1_t31 : Fin (k1_t31_loop v582 v584).trips) (k1_t34 : Fin (k1_t34_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t34
  let v3026 : BitVec 32 := Scalar.addi v3015 arg46
  let v3082 : Index := Scalar.indexCast v3026
  let c176_1457 : Index := 176#32
  ![v3082.toNat, 176]
def k1_off462 (v582 : BitVec 32) (v584 : BitVec 32) (k1_t31 : Fin (k1_t31_loop v582 v584).trips) (k1_t34 : Fin (k1_t34_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t34
  let v3026 : BitVec 32 := Scalar.addi v3015 arg46
  let v3087 : Index := Scalar.indexCast v3026
  let c192_1458 : Index := 192#32
  ![v3087.toNat, 192]
def k1_off463 (v582 : BitVec 32) (v584 : BitVec 32) (k1_t31 : Fin (k1_t31_loop v582 v584).trips) (k1_t34 : Fin (k1_t34_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t34
  let v3026 : BitVec 32 := Scalar.addi v3015 arg46
  let v3092 : Index := Scalar.indexCast v3026
  let c208_1459 : Index := 208#32
  ![v3092.toNat, 208]
def k1_off464 (v582 : BitVec 32) (v584 : BitVec 32) (k1_t31 : Fin (k1_t31_loop v582 v584).trips) (k1_t34 : Fin (k1_t34_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t34
  let v3026 : BitVec 32 := Scalar.addi v3015 arg46
  let v3097 : Index := Scalar.indexCast v3026
  let c224_1460 : Index := 224#32
  ![v3097.toNat, 224]
def k1_off465 (v582 : BitVec 32) (v584 : BitVec 32) (k1_t31 : Fin (k1_t31_loop v582 v584).trips) (k1_t34 : Fin (k1_t34_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t34
  let v3026 : BitVec 32 := Scalar.addi v3015 arg46
  let v3102 : Index := Scalar.indexCast v3026
  let c240_1461 : Index := 240#32
  ![v3102.toNat, 240]
@[reducible] def k1_t35_loop (v582 : BitVec 32) (v584 : BitVec 32) (k1_t31 : Fin (k1_t31_loop v582 v584).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off466 (v582 : BitVec 32) (v584 : BitVec 32) (k1_t31 : Fin (k1_t31_loop v582 v584).trips) (k1_t35 : Fin (k1_t35_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t35
  let v3026 : BitVec 32 := Scalar.addi v3015 arg46
  let v3027 : Index := Scalar.indexCast v3026
  let c0_1446 : Index := 0#32
  ![v3027.toNat, 0]
def k1_off467 (v582 : BitVec 32) (v584 : BitVec 32) (k1_t31 : Fin (k1_t31_loop v582 v584).trips) (k1_t35 : Fin (k1_t35_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t35
  let v3026 : BitVec 32 := Scalar.addi v3015 arg46
  let v3032 : Index := Scalar.indexCast v3026
  let c16_1447 : Index := 16#32
  ![v3032.toNat, 16]
def k1_off468 (v582 : BitVec 32) (v584 : BitVec 32) (k1_t31 : Fin (k1_t31_loop v582 v584).trips) (k1_t35 : Fin (k1_t35_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t35
  let v3026 : BitVec 32 := Scalar.addi v3015 arg46
  let v3037 : Index := Scalar.indexCast v3026
  let c32_1448 : Index := 32#32
  ![v3037.toNat, 32]
def k1_off469 (v582 : BitVec 32) (v584 : BitVec 32) (k1_t31 : Fin (k1_t31_loop v582 v584).trips) (k1_t35 : Fin (k1_t35_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t35
  let v3026 : BitVec 32 := Scalar.addi v3015 arg46
  let v3042 : Index := Scalar.indexCast v3026
  let c48_1449 : Index := 48#32
  ![v3042.toNat, 48]
def k1_off470 (v582 : BitVec 32) (v584 : BitVec 32) (k1_t31 : Fin (k1_t31_loop v582 v584).trips) (k1_t35 : Fin (k1_t35_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t35
  let v3026 : BitVec 32 := Scalar.addi v3015 arg46
  let v3047 : Index := Scalar.indexCast v3026
  let c64_1450 : Index := 64#32
  ![v3047.toNat, 64]
def k1_off471 (v582 : BitVec 32) (v584 : BitVec 32) (k1_t31 : Fin (k1_t31_loop v582 v584).trips) (k1_t35 : Fin (k1_t35_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t35
  let v3026 : BitVec 32 := Scalar.addi v3015 arg46
  let v3052 : Index := Scalar.indexCast v3026
  let c80_1451 : Index := 80#32
  ![v3052.toNat, 80]
def k1_off472 (v582 : BitVec 32) (v584 : BitVec 32) (k1_t31 : Fin (k1_t31_loop v582 v584).trips) (k1_t35 : Fin (k1_t35_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t35
  let v3026 : BitVec 32 := Scalar.addi v3015 arg46
  let v3057 : Index := Scalar.indexCast v3026
  let c96_1452 : Index := 96#32
  ![v3057.toNat, 96]
def k1_off473 (v582 : BitVec 32) (v584 : BitVec 32) (k1_t31 : Fin (k1_t31_loop v582 v584).trips) (k1_t35 : Fin (k1_t35_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t35
  let v3026 : BitVec 32 := Scalar.addi v3015 arg46
  let v3062 : Index := Scalar.indexCast v3026
  let c112_1453 : Index := 112#32
  ![v3062.toNat, 112]
def k1_off474 (v582 : BitVec 32) (v584 : BitVec 32) (k1_t31 : Fin (k1_t31_loop v582 v584).trips) (k1_t35 : Fin (k1_t35_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t35
  let v3026 : BitVec 32 := Scalar.addi v3015 arg46
  let v3067 : Index := Scalar.indexCast v3026
  let c128_1454 : Index := 128#32
  ![v3067.toNat, 128]
def k1_off475 (v582 : BitVec 32) (v584 : BitVec 32) (k1_t31 : Fin (k1_t31_loop v582 v584).trips) (k1_t35 : Fin (k1_t35_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t35
  let v3026 : BitVec 32 := Scalar.addi v3015 arg46
  let v3072 : Index := Scalar.indexCast v3026
  let c144_1455 : Index := 144#32
  ![v3072.toNat, 144]
def k1_off476 (v582 : BitVec 32) (v584 : BitVec 32) (k1_t31 : Fin (k1_t31_loop v582 v584).trips) (k1_t35 : Fin (k1_t35_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t35
  let v3026 : BitVec 32 := Scalar.addi v3015 arg46
  let v3077 : Index := Scalar.indexCast v3026
  let c160_1456 : Index := 160#32
  ![v3077.toNat, 160]
def k1_off477 (v582 : BitVec 32) (v584 : BitVec 32) (k1_t31 : Fin (k1_t31_loop v582 v584).trips) (k1_t35 : Fin (k1_t35_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t35
  let v3026 : BitVec 32 := Scalar.addi v3015 arg46
  let v3082 : Index := Scalar.indexCast v3026
  let c176_1457 : Index := 176#32
  ![v3082.toNat, 176]
def k1_off478 (v582 : BitVec 32) (v584 : BitVec 32) (k1_t31 : Fin (k1_t31_loop v582 v584).trips) (k1_t35 : Fin (k1_t35_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t35
  let v3026 : BitVec 32 := Scalar.addi v3015 arg46
  let v3087 : Index := Scalar.indexCast v3026
  let c192_1458 : Index := 192#32
  ![v3087.toNat, 192]
def k1_off479 (v582 : BitVec 32) (v584 : BitVec 32) (k1_t31 : Fin (k1_t31_loop v582 v584).trips) (k1_t35 : Fin (k1_t35_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t35
  let v3026 : BitVec 32 := Scalar.addi v3015 arg46
  let v3092 : Index := Scalar.indexCast v3026
  let c208_1459 : Index := 208#32
  ![v3092.toNat, 208]
def k1_off480 (v582 : BitVec 32) (v584 : BitVec 32) (k1_t31 : Fin (k1_t31_loop v582 v584).trips) (k1_t35 : Fin (k1_t35_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t35
  let v3026 : BitVec 32 := Scalar.addi v3015 arg46
  let v3097 : Index := Scalar.indexCast v3026
  let c224_1460 : Index := 224#32
  ![v3097.toNat, 224]
def k1_off481 (v582 : BitVec 32) (v584 : BitVec 32) (k1_t31 : Fin (k1_t31_loop v582 v584).trips) (k1_t35 : Fin (k1_t35_loop v582 v584 k1_t31).trips) : Fin 2 → Nat :=
  let c2_i32_1426 : BitVec 32 := 2#32
  let c0_i32_283 : BitVec 32 := 0#32
  let c1_i32_285 : BitVec 32 := 1#32
  let arg13 : BitVec 32 := Scf.iv c0_i32_283 c1_i32_285 k1_t31
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t35
  let v3026 : BitVec 32 := Scalar.addi v3015 arg46
  let v3102 : Index := Scalar.indexCast v3026
  let c240_1461 : Index := 240#32
  ![v3102.toNat, 240]
@[reducible] def k1_t36_loop (v582 : BitVec 32) (v584 : BitVec 32) : Scf.Loop 32 :=
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let v629 : BitVec 32 := Scalar.addi c0_i32_283 v628
  let c1_i32_286 : BitVec 32 := 1#32
  ⟨v632, v629, c1_i32_286⟩
def k1_off482 (i : grid1.Coords) (v582 : BitVec 32) (v584 : BitVec 32) (k1_t36 : Fin (k1_t36_loop v582 v584).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1446 : BitVec 32 := 64#32
  let v3026 : BitVec 32 := Scalar.muli v2949 c64_i32_1446
  let v3027 : BitVec 32 := Scalar.addi v582 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond33 (v582 : BitVec 32) (v584 : BitVec 32) (k1_t36 : Fin (k1_t36_loop v582 v584).trips) : BitVec 1 :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let v2950 : BitVec 1 := Scalar.cmpi .slt v2949 v606
  let v2951 : BitVec 32 := Scalar.extui v2950
  let c0_i32_1409 : BitVec 32 := 0#32
  let v2952 : BitVec 1 := Scalar.cmpi .ne v2951 c0_i32_1409
  v2952

def k1_off483 (i : grid1.Coords) (v582 : BitVec 32) (v584 : BitVec 32) (k1_t36 : Fin (k1_t36_loop v582 v584).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v582 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond34 (v582 : BitVec 32) (v584 : BitVec 32) (k1_t36 : Fin (k1_t36_loop v582 v584).trips) : BitVec 1 :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c1_i32_1456 : BitVec 32 := 1#32
  let v3049 : BitVec 32 := Scalar.addi v2949 c1_i32_1456
  let v3050 : BitVec 1 := Scalar.cmpi .slt v3049 v606
  let v3051 : BitVec 32 := Scalar.extui v3050
  let c0_i32_1457 : BitVec 32 := 0#32
  let v3052 : BitVec 1 := Scalar.cmpi .ne v3051 c0_i32_1457
  v3052

@[reducible] def k1_t37_loop (v582 : BitVec 32) (v584 : BitVec 32) (k1_t36 : Fin (k1_t36_loop v582 v584).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off484 (v582 : BitVec 32) (v584 : BitVec 32) (k1_t36 : Fin (k1_t36_loop v582 v584).trips) (k1_t37 : Fin (k1_t37_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t37
  let v3026 : BitVec 32 := Scalar.addi v2976 arg46
  let v3027 : Index := Scalar.indexCast v3026
  let c0_1446 : Index := 0#32
  ![v3027.toNat, 0]
def k1_off485 (v582 : BitVec 32) (v584 : BitVec 32) (k1_t36 : Fin (k1_t36_loop v582 v584).trips) (k1_t37 : Fin (k1_t37_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t37
  let v3026 : BitVec 32 := Scalar.addi v2976 arg46
  let v3032 : Index := Scalar.indexCast v3026
  let c16_1447 : Index := 16#32
  ![v3032.toNat, 16]
def k1_off486 (v582 : BitVec 32) (v584 : BitVec 32) (k1_t36 : Fin (k1_t36_loop v582 v584).trips) (k1_t37 : Fin (k1_t37_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t37
  let v3026 : BitVec 32 := Scalar.addi v2976 arg46
  let v3037 : Index := Scalar.indexCast v3026
  let c32_1448 : Index := 32#32
  ![v3037.toNat, 32]
def k1_off487 (v582 : BitVec 32) (v584 : BitVec 32) (k1_t36 : Fin (k1_t36_loop v582 v584).trips) (k1_t37 : Fin (k1_t37_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t37
  let v3026 : BitVec 32 := Scalar.addi v2976 arg46
  let v3042 : Index := Scalar.indexCast v3026
  let c48_1449 : Index := 48#32
  ![v3042.toNat, 48]
def k1_off488 (v582 : BitVec 32) (v584 : BitVec 32) (k1_t36 : Fin (k1_t36_loop v582 v584).trips) (k1_t37 : Fin (k1_t37_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t37
  let v3026 : BitVec 32 := Scalar.addi v2976 arg46
  let v3047 : Index := Scalar.indexCast v3026
  let c64_1450 : Index := 64#32
  ![v3047.toNat, 64]
def k1_off489 (v582 : BitVec 32) (v584 : BitVec 32) (k1_t36 : Fin (k1_t36_loop v582 v584).trips) (k1_t37 : Fin (k1_t37_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t37
  let v3026 : BitVec 32 := Scalar.addi v2976 arg46
  let v3052 : Index := Scalar.indexCast v3026
  let c80_1451 : Index := 80#32
  ![v3052.toNat, 80]
def k1_off490 (v582 : BitVec 32) (v584 : BitVec 32) (k1_t36 : Fin (k1_t36_loop v582 v584).trips) (k1_t37 : Fin (k1_t37_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t37
  let v3026 : BitVec 32 := Scalar.addi v2976 arg46
  let v3057 : Index := Scalar.indexCast v3026
  let c96_1452 : Index := 96#32
  ![v3057.toNat, 96]
def k1_off491 (v582 : BitVec 32) (v584 : BitVec 32) (k1_t36 : Fin (k1_t36_loop v582 v584).trips) (k1_t37 : Fin (k1_t37_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t37
  let v3026 : BitVec 32 := Scalar.addi v2976 arg46
  let v3062 : Index := Scalar.indexCast v3026
  let c112_1453 : Index := 112#32
  ![v3062.toNat, 112]
def k1_off492 (v582 : BitVec 32) (v584 : BitVec 32) (k1_t36 : Fin (k1_t36_loop v582 v584).trips) (k1_t37 : Fin (k1_t37_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t37
  let v3026 : BitVec 32 := Scalar.addi v2976 arg46
  let v3067 : Index := Scalar.indexCast v3026
  let c128_1454 : Index := 128#32
  ![v3067.toNat, 128]
def k1_off493 (v582 : BitVec 32) (v584 : BitVec 32) (k1_t36 : Fin (k1_t36_loop v582 v584).trips) (k1_t37 : Fin (k1_t37_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t37
  let v3026 : BitVec 32 := Scalar.addi v2976 arg46
  let v3072 : Index := Scalar.indexCast v3026
  let c144_1455 : Index := 144#32
  ![v3072.toNat, 144]
def k1_off494 (v582 : BitVec 32) (v584 : BitVec 32) (k1_t36 : Fin (k1_t36_loop v582 v584).trips) (k1_t37 : Fin (k1_t37_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t37
  let v3026 : BitVec 32 := Scalar.addi v2976 arg46
  let v3077 : Index := Scalar.indexCast v3026
  let c160_1456 : Index := 160#32
  ![v3077.toNat, 160]
def k1_off495 (v582 : BitVec 32) (v584 : BitVec 32) (k1_t36 : Fin (k1_t36_loop v582 v584).trips) (k1_t37 : Fin (k1_t37_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t37
  let v3026 : BitVec 32 := Scalar.addi v2976 arg46
  let v3082 : Index := Scalar.indexCast v3026
  let c176_1457 : Index := 176#32
  ![v3082.toNat, 176]
def k1_off496 (v582 : BitVec 32) (v584 : BitVec 32) (k1_t36 : Fin (k1_t36_loop v582 v584).trips) (k1_t37 : Fin (k1_t37_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t37
  let v3026 : BitVec 32 := Scalar.addi v2976 arg46
  let v3087 : Index := Scalar.indexCast v3026
  let c192_1458 : Index := 192#32
  ![v3087.toNat, 192]
def k1_off497 (v582 : BitVec 32) (v584 : BitVec 32) (k1_t36 : Fin (k1_t36_loop v582 v584).trips) (k1_t37 : Fin (k1_t37_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t37
  let v3026 : BitVec 32 := Scalar.addi v2976 arg46
  let v3092 : Index := Scalar.indexCast v3026
  let c208_1459 : Index := 208#32
  ![v3092.toNat, 208]
def k1_off498 (v582 : BitVec 32) (v584 : BitVec 32) (k1_t36 : Fin (k1_t36_loop v582 v584).trips) (k1_t37 : Fin (k1_t37_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t37
  let v3026 : BitVec 32 := Scalar.addi v2976 arg46
  let v3097 : Index := Scalar.indexCast v3026
  let c224_1460 : Index := 224#32
  ![v3097.toNat, 224]
def k1_off499 (v582 : BitVec 32) (v584 : BitVec 32) (k1_t36 : Fin (k1_t36_loop v582 v584).trips) (k1_t37 : Fin (k1_t37_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t37
  let v3026 : BitVec 32 := Scalar.addi v2976 arg46
  let v3102 : Index := Scalar.indexCast v3026
  let c240_1461 : Index := 240#32
  ![v3102.toNat, 240]
@[reducible] def k1_t38_loop (v582 : BitVec 32) (v584 : BitVec 32) (k1_t36 : Fin (k1_t36_loop v582 v584).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off500 (v582 : BitVec 32) (v584 : BitVec 32) (k1_t36 : Fin (k1_t36_loop v582 v584).trips) (k1_t38 : Fin (k1_t38_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t38
  let v3026 : BitVec 32 := Scalar.addi v2976 arg46
  let v3027 : Index := Scalar.indexCast v3026
  let c0_1446 : Index := 0#32
  ![v3027.toNat, 0]
def k1_off501 (v582 : BitVec 32) (v584 : BitVec 32) (k1_t36 : Fin (k1_t36_loop v582 v584).trips) (k1_t38 : Fin (k1_t38_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t38
  let v3026 : BitVec 32 := Scalar.addi v2976 arg46
  let v3032 : Index := Scalar.indexCast v3026
  let c16_1447 : Index := 16#32
  ![v3032.toNat, 16]
def k1_off502 (v582 : BitVec 32) (v584 : BitVec 32) (k1_t36 : Fin (k1_t36_loop v582 v584).trips) (k1_t38 : Fin (k1_t38_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t38
  let v3026 : BitVec 32 := Scalar.addi v2976 arg46
  let v3037 : Index := Scalar.indexCast v3026
  let c32_1448 : Index := 32#32
  ![v3037.toNat, 32]
def k1_off503 (v582 : BitVec 32) (v584 : BitVec 32) (k1_t36 : Fin (k1_t36_loop v582 v584).trips) (k1_t38 : Fin (k1_t38_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t38
  let v3026 : BitVec 32 := Scalar.addi v2976 arg46
  let v3042 : Index := Scalar.indexCast v3026
  let c48_1449 : Index := 48#32
  ![v3042.toNat, 48]
def k1_off504 (v582 : BitVec 32) (v584 : BitVec 32) (k1_t36 : Fin (k1_t36_loop v582 v584).trips) (k1_t38 : Fin (k1_t38_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t38
  let v3026 : BitVec 32 := Scalar.addi v2976 arg46
  let v3047 : Index := Scalar.indexCast v3026
  let c64_1450 : Index := 64#32
  ![v3047.toNat, 64]
def k1_off505 (v582 : BitVec 32) (v584 : BitVec 32) (k1_t36 : Fin (k1_t36_loop v582 v584).trips) (k1_t38 : Fin (k1_t38_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t38
  let v3026 : BitVec 32 := Scalar.addi v2976 arg46
  let v3052 : Index := Scalar.indexCast v3026
  let c80_1451 : Index := 80#32
  ![v3052.toNat, 80]
def k1_off506 (v582 : BitVec 32) (v584 : BitVec 32) (k1_t36 : Fin (k1_t36_loop v582 v584).trips) (k1_t38 : Fin (k1_t38_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t38
  let v3026 : BitVec 32 := Scalar.addi v2976 arg46
  let v3057 : Index := Scalar.indexCast v3026
  let c96_1452 : Index := 96#32
  ![v3057.toNat, 96]
def k1_off507 (v582 : BitVec 32) (v584 : BitVec 32) (k1_t36 : Fin (k1_t36_loop v582 v584).trips) (k1_t38 : Fin (k1_t38_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t38
  let v3026 : BitVec 32 := Scalar.addi v2976 arg46
  let v3062 : Index := Scalar.indexCast v3026
  let c112_1453 : Index := 112#32
  ![v3062.toNat, 112]
def k1_off508 (v582 : BitVec 32) (v584 : BitVec 32) (k1_t36 : Fin (k1_t36_loop v582 v584).trips) (k1_t38 : Fin (k1_t38_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t38
  let v3026 : BitVec 32 := Scalar.addi v2976 arg46
  let v3067 : Index := Scalar.indexCast v3026
  let c128_1454 : Index := 128#32
  ![v3067.toNat, 128]
def k1_off509 (v582 : BitVec 32) (v584 : BitVec 32) (k1_t36 : Fin (k1_t36_loop v582 v584).trips) (k1_t38 : Fin (k1_t38_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t38
  let v3026 : BitVec 32 := Scalar.addi v2976 arg46
  let v3072 : Index := Scalar.indexCast v3026
  let c144_1455 : Index := 144#32
  ![v3072.toNat, 144]
def k1_off510 (v582 : BitVec 32) (v584 : BitVec 32) (k1_t36 : Fin (k1_t36_loop v582 v584).trips) (k1_t38 : Fin (k1_t38_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t38
  let v3026 : BitVec 32 := Scalar.addi v2976 arg46
  let v3077 : Index := Scalar.indexCast v3026
  let c160_1456 : Index := 160#32
  ![v3077.toNat, 160]
def k1_off511 (v582 : BitVec 32) (v584 : BitVec 32) (k1_t36 : Fin (k1_t36_loop v582 v584).trips) (k1_t38 : Fin (k1_t38_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t38
  let v3026 : BitVec 32 := Scalar.addi v2976 arg46
  let v3082 : Index := Scalar.indexCast v3026
  let c176_1457 : Index := 176#32
  ![v3082.toNat, 176]
def k1_off512 (v582 : BitVec 32) (v584 : BitVec 32) (k1_t36 : Fin (k1_t36_loop v582 v584).trips) (k1_t38 : Fin (k1_t38_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t38
  let v3026 : BitVec 32 := Scalar.addi v2976 arg46
  let v3087 : Index := Scalar.indexCast v3026
  let c192_1458 : Index := 192#32
  ![v3087.toNat, 192]
def k1_off513 (v582 : BitVec 32) (v584 : BitVec 32) (k1_t36 : Fin (k1_t36_loop v582 v584).trips) (k1_t38 : Fin (k1_t38_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t38
  let v3026 : BitVec 32 := Scalar.addi v2976 arg46
  let v3092 : Index := Scalar.indexCast v3026
  let c208_1459 : Index := 208#32
  ![v3092.toNat, 208]
def k1_off514 (v582 : BitVec 32) (v584 : BitVec 32) (k1_t36 : Fin (k1_t36_loop v582 v584).trips) (k1_t38 : Fin (k1_t38_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t38
  let v3026 : BitVec 32 := Scalar.addi v2976 arg46
  let v3097 : Index := Scalar.indexCast v3026
  let c224_1460 : Index := 224#32
  ![v3097.toNat, 224]
def k1_off515 (v582 : BitVec 32) (v584 : BitVec 32) (k1_t36 : Fin (k1_t36_loop v582 v584).trips) (k1_t38 : Fin (k1_t38_loop v582 v584 k1_t36).trips) : Fin 2 → Nat :=
  let c2_i32_1408 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2949 : BitVec 32 := Scalar.muli c2_i32_1408 arg13
  let c64_i32_1410 : BitVec 32 := 64#32
  let v2953 : BitVec 32 := Scalar.muli v2949 c64_i32_1410
  let v2954 : BitVec 32 := Scalar.addi v582 v2953
  let c64_i32_1411 : BitVec 32 := 64#32
  let v2955 : BitVec 32 := Scalar.muli v2949 c64_i32_1411
  let v2956 : BitVec 32 := Scalar.addi v582 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v584 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t38
  let v3026 : BitVec 32 := Scalar.addi v2976 arg46
  let v3102 : Index := Scalar.indexCast v3026
  let c240_1461 : Index := 240#32
  ![v3102.toNat, 240]
def k1_off516 (i : grid1.Coords) (v582 : BitVec 32) (v584 : BitVec 32) (k1_t36 : Fin (k1_t36_loop v582 v584).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v582 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond35 (v582 : BitVec 32) (v584 : BitVec 32) (k1_t36 : Fin (k1_t36_loop v582 v584).trips) : BitVec 1 :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let v2989 : BitVec 1 := Scalar.cmpi .slt v2988 v606
  let v2990 : BitVec 32 := Scalar.extui v2989
  let c0_i32_1428 : BitVec 32 := 0#32
  let v2991 : BitVec 1 := Scalar.cmpi .ne v2990 c0_i32_1428
  v2991

def k1_off517 (i : grid1.Coords) (v582 : BitVec 32) (v584 : BitVec 32) (k1_t36 : Fin (k1_t36_loop v582 v584).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v582 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond36 (v582 : BitVec 32) (v584 : BitVec 32) (k1_t36 : Fin (k1_t36_loop v582 v584).trips) : BitVec 1 :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v3050 : BitVec 1 := Scalar.cmpi .slt v3049 v606
  let v3051 : BitVec 32 := Scalar.extui v3050
  let c0_i32_1457 : BitVec 32 := 0#32
  let v3052 : BitVec 1 := Scalar.cmpi .ne v3051 c0_i32_1457
  v3052

@[reducible] def k1_t39_loop (v582 : BitVec 32) (v584 : BitVec 32) (k1_t36 : Fin (k1_t36_loop v582 v584).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off518 (v582 : BitVec 32) (v584 : BitVec 32) (k1_t36 : Fin (k1_t36_loop v582 v584).trips) (k1_t39 : Fin (k1_t39_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t39
  let v3026 : BitVec 32 := Scalar.addi v3015 arg46
  let v3027 : Index := Scalar.indexCast v3026
  let c0_1446 : Index := 0#32
  ![v3027.toNat, 0]
def k1_off519 (v582 : BitVec 32) (v584 : BitVec 32) (k1_t36 : Fin (k1_t36_loop v582 v584).trips) (k1_t39 : Fin (k1_t39_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t39
  let v3026 : BitVec 32 := Scalar.addi v3015 arg46
  let v3032 : Index := Scalar.indexCast v3026
  let c16_1447 : Index := 16#32
  ![v3032.toNat, 16]
def k1_off520 (v582 : BitVec 32) (v584 : BitVec 32) (k1_t36 : Fin (k1_t36_loop v582 v584).trips) (k1_t39 : Fin (k1_t39_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t39
  let v3026 : BitVec 32 := Scalar.addi v3015 arg46
  let v3037 : Index := Scalar.indexCast v3026
  let c32_1448 : Index := 32#32
  ![v3037.toNat, 32]
def k1_off521 (v582 : BitVec 32) (v584 : BitVec 32) (k1_t36 : Fin (k1_t36_loop v582 v584).trips) (k1_t39 : Fin (k1_t39_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t39
  let v3026 : BitVec 32 := Scalar.addi v3015 arg46
  let v3042 : Index := Scalar.indexCast v3026
  let c48_1449 : Index := 48#32
  ![v3042.toNat, 48]
def k1_off522 (v582 : BitVec 32) (v584 : BitVec 32) (k1_t36 : Fin (k1_t36_loop v582 v584).trips) (k1_t39 : Fin (k1_t39_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t39
  let v3026 : BitVec 32 := Scalar.addi v3015 arg46
  let v3047 : Index := Scalar.indexCast v3026
  let c64_1450 : Index := 64#32
  ![v3047.toNat, 64]
def k1_off523 (v582 : BitVec 32) (v584 : BitVec 32) (k1_t36 : Fin (k1_t36_loop v582 v584).trips) (k1_t39 : Fin (k1_t39_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t39
  let v3026 : BitVec 32 := Scalar.addi v3015 arg46
  let v3052 : Index := Scalar.indexCast v3026
  let c80_1451 : Index := 80#32
  ![v3052.toNat, 80]
def k1_off524 (v582 : BitVec 32) (v584 : BitVec 32) (k1_t36 : Fin (k1_t36_loop v582 v584).trips) (k1_t39 : Fin (k1_t39_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t39
  let v3026 : BitVec 32 := Scalar.addi v3015 arg46
  let v3057 : Index := Scalar.indexCast v3026
  let c96_1452 : Index := 96#32
  ![v3057.toNat, 96]
def k1_off525 (v582 : BitVec 32) (v584 : BitVec 32) (k1_t36 : Fin (k1_t36_loop v582 v584).trips) (k1_t39 : Fin (k1_t39_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t39
  let v3026 : BitVec 32 := Scalar.addi v3015 arg46
  let v3062 : Index := Scalar.indexCast v3026
  let c112_1453 : Index := 112#32
  ![v3062.toNat, 112]
def k1_off526 (v582 : BitVec 32) (v584 : BitVec 32) (k1_t36 : Fin (k1_t36_loop v582 v584).trips) (k1_t39 : Fin (k1_t39_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t39
  let v3026 : BitVec 32 := Scalar.addi v3015 arg46
  let v3067 : Index := Scalar.indexCast v3026
  let c128_1454 : Index := 128#32
  ![v3067.toNat, 128]
def k1_off527 (v582 : BitVec 32) (v584 : BitVec 32) (k1_t36 : Fin (k1_t36_loop v582 v584).trips) (k1_t39 : Fin (k1_t39_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t39
  let v3026 : BitVec 32 := Scalar.addi v3015 arg46
  let v3072 : Index := Scalar.indexCast v3026
  let c144_1455 : Index := 144#32
  ![v3072.toNat, 144]
def k1_off528 (v582 : BitVec 32) (v584 : BitVec 32) (k1_t36 : Fin (k1_t36_loop v582 v584).trips) (k1_t39 : Fin (k1_t39_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t39
  let v3026 : BitVec 32 := Scalar.addi v3015 arg46
  let v3077 : Index := Scalar.indexCast v3026
  let c160_1456 : Index := 160#32
  ![v3077.toNat, 160]
def k1_off529 (v582 : BitVec 32) (v584 : BitVec 32) (k1_t36 : Fin (k1_t36_loop v582 v584).trips) (k1_t39 : Fin (k1_t39_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t39
  let v3026 : BitVec 32 := Scalar.addi v3015 arg46
  let v3082 : Index := Scalar.indexCast v3026
  let c176_1457 : Index := 176#32
  ![v3082.toNat, 176]
def k1_off530 (v582 : BitVec 32) (v584 : BitVec 32) (k1_t36 : Fin (k1_t36_loop v582 v584).trips) (k1_t39 : Fin (k1_t39_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t39
  let v3026 : BitVec 32 := Scalar.addi v3015 arg46
  let v3087 : Index := Scalar.indexCast v3026
  let c192_1458 : Index := 192#32
  ![v3087.toNat, 192]
def k1_off531 (v582 : BitVec 32) (v584 : BitVec 32) (k1_t36 : Fin (k1_t36_loop v582 v584).trips) (k1_t39 : Fin (k1_t39_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t39
  let v3026 : BitVec 32 := Scalar.addi v3015 arg46
  let v3092 : Index := Scalar.indexCast v3026
  let c208_1459 : Index := 208#32
  ![v3092.toNat, 208]
def k1_off532 (v582 : BitVec 32) (v584 : BitVec 32) (k1_t36 : Fin (k1_t36_loop v582 v584).trips) (k1_t39 : Fin (k1_t39_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t39
  let v3026 : BitVec 32 := Scalar.addi v3015 arg46
  let v3097 : Index := Scalar.indexCast v3026
  let c224_1460 : Index := 224#32
  ![v3097.toNat, 224]
def k1_off533 (v582 : BitVec 32) (v584 : BitVec 32) (k1_t36 : Fin (k1_t36_loop v582 v584).trips) (k1_t39 : Fin (k1_t39_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t39
  let v3026 : BitVec 32 := Scalar.addi v3015 arg46
  let v3102 : Index := Scalar.indexCast v3026
  let c240_1461 : Index := 240#32
  ![v3102.toNat, 240]
@[reducible] def k1_t40_loop (v582 : BitVec 32) (v584 : BitVec 32) (k1_t36 : Fin (k1_t36_loop v582 v584).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off534 (v582 : BitVec 32) (v584 : BitVec 32) (k1_t36 : Fin (k1_t36_loop v582 v584).trips) (k1_t40 : Fin (k1_t40_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t40
  let v3026 : BitVec 32 := Scalar.addi v3015 arg46
  let v3027 : Index := Scalar.indexCast v3026
  let c0_1446 : Index := 0#32
  ![v3027.toNat, 0]
def k1_off535 (v582 : BitVec 32) (v584 : BitVec 32) (k1_t36 : Fin (k1_t36_loop v582 v584).trips) (k1_t40 : Fin (k1_t40_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t40
  let v3026 : BitVec 32 := Scalar.addi v3015 arg46
  let v3032 : Index := Scalar.indexCast v3026
  let c16_1447 : Index := 16#32
  ![v3032.toNat, 16]
def k1_off536 (v582 : BitVec 32) (v584 : BitVec 32) (k1_t36 : Fin (k1_t36_loop v582 v584).trips) (k1_t40 : Fin (k1_t40_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t40
  let v3026 : BitVec 32 := Scalar.addi v3015 arg46
  let v3037 : Index := Scalar.indexCast v3026
  let c32_1448 : Index := 32#32
  ![v3037.toNat, 32]
def k1_off537 (v582 : BitVec 32) (v584 : BitVec 32) (k1_t36 : Fin (k1_t36_loop v582 v584).trips) (k1_t40 : Fin (k1_t40_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t40
  let v3026 : BitVec 32 := Scalar.addi v3015 arg46
  let v3042 : Index := Scalar.indexCast v3026
  let c48_1449 : Index := 48#32
  ![v3042.toNat, 48]
def k1_off538 (v582 : BitVec 32) (v584 : BitVec 32) (k1_t36 : Fin (k1_t36_loop v582 v584).trips) (k1_t40 : Fin (k1_t40_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t40
  let v3026 : BitVec 32 := Scalar.addi v3015 arg46
  let v3047 : Index := Scalar.indexCast v3026
  let c64_1450 : Index := 64#32
  ![v3047.toNat, 64]
def k1_off539 (v582 : BitVec 32) (v584 : BitVec 32) (k1_t36 : Fin (k1_t36_loop v582 v584).trips) (k1_t40 : Fin (k1_t40_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t40
  let v3026 : BitVec 32 := Scalar.addi v3015 arg46
  let v3052 : Index := Scalar.indexCast v3026
  let c80_1451 : Index := 80#32
  ![v3052.toNat, 80]
def k1_off540 (v582 : BitVec 32) (v584 : BitVec 32) (k1_t36 : Fin (k1_t36_loop v582 v584).trips) (k1_t40 : Fin (k1_t40_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t40
  let v3026 : BitVec 32 := Scalar.addi v3015 arg46
  let v3057 : Index := Scalar.indexCast v3026
  let c96_1452 : Index := 96#32
  ![v3057.toNat, 96]
def k1_off541 (v582 : BitVec 32) (v584 : BitVec 32) (k1_t36 : Fin (k1_t36_loop v582 v584).trips) (k1_t40 : Fin (k1_t40_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t40
  let v3026 : BitVec 32 := Scalar.addi v3015 arg46
  let v3062 : Index := Scalar.indexCast v3026
  let c112_1453 : Index := 112#32
  ![v3062.toNat, 112]
def k1_off542 (v582 : BitVec 32) (v584 : BitVec 32) (k1_t36 : Fin (k1_t36_loop v582 v584).trips) (k1_t40 : Fin (k1_t40_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t40
  let v3026 : BitVec 32 := Scalar.addi v3015 arg46
  let v3067 : Index := Scalar.indexCast v3026
  let c128_1454 : Index := 128#32
  ![v3067.toNat, 128]
def k1_off543 (v582 : BitVec 32) (v584 : BitVec 32) (k1_t36 : Fin (k1_t36_loop v582 v584).trips) (k1_t40 : Fin (k1_t40_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t40
  let v3026 : BitVec 32 := Scalar.addi v3015 arg46
  let v3072 : Index := Scalar.indexCast v3026
  let c144_1455 : Index := 144#32
  ![v3072.toNat, 144]
def k1_off544 (v582 : BitVec 32) (v584 : BitVec 32) (k1_t36 : Fin (k1_t36_loop v582 v584).trips) (k1_t40 : Fin (k1_t40_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t40
  let v3026 : BitVec 32 := Scalar.addi v3015 arg46
  let v3077 : Index := Scalar.indexCast v3026
  let c160_1456 : Index := 160#32
  ![v3077.toNat, 160]
def k1_off545 (v582 : BitVec 32) (v584 : BitVec 32) (k1_t36 : Fin (k1_t36_loop v582 v584).trips) (k1_t40 : Fin (k1_t40_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t40
  let v3026 : BitVec 32 := Scalar.addi v3015 arg46
  let v3082 : Index := Scalar.indexCast v3026
  let c176_1457 : Index := 176#32
  ![v3082.toNat, 176]
def k1_off546 (v582 : BitVec 32) (v584 : BitVec 32) (k1_t36 : Fin (k1_t36_loop v582 v584).trips) (k1_t40 : Fin (k1_t40_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t40
  let v3026 : BitVec 32 := Scalar.addi v3015 arg46
  let v3087 : Index := Scalar.indexCast v3026
  let c192_1458 : Index := 192#32
  ![v3087.toNat, 192]
def k1_off547 (v582 : BitVec 32) (v584 : BitVec 32) (k1_t36 : Fin (k1_t36_loop v582 v584).trips) (k1_t40 : Fin (k1_t40_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t40
  let v3026 : BitVec 32 := Scalar.addi v3015 arg46
  let v3092 : Index := Scalar.indexCast v3026
  let c208_1459 : Index := 208#32
  ![v3092.toNat, 208]
def k1_off548 (v582 : BitVec 32) (v584 : BitVec 32) (k1_t36 : Fin (k1_t36_loop v582 v584).trips) (k1_t40 : Fin (k1_t40_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t40
  let v3026 : BitVec 32 := Scalar.addi v3015 arg46
  let v3097 : Index := Scalar.indexCast v3026
  let c224_1460 : Index := 224#32
  ![v3097.toNat, 224]
def k1_off549 (v582 : BitVec 32) (v584 : BitVec 32) (k1_t36 : Fin (k1_t36_loop v582 v584).trips) (k1_t40 : Fin (k1_t40_loop v582 v584 k1_t36).trips) : Fin 2 → Nat :=
  let c2_i32_1426 : BitVec 32 := 2#32
  let c0_i32_283 : BitVec 32 := 0#32
  let v587 : BitVec 32 := Scalar.subi v584 v582
  let c64_i32_264 : BitVec 32 := 64#32
  let v588 : BitVec 32 := Scalar.addi v587 c64_i32_264
  let c1_i32_265 : BitVec 32 := 1#32
  let v589 : BitVec 32 := Scalar.subi v588 c1_i32_265
  let c0_i32_267 : BitVec 32 := 0#32
  let v591 : BitVec 1 := Scalar.cmpi .sgt v589 c0_i32_267
  let v592 : BitVec 32 := Scalar.extui v591
  let c0_i32_268 : BitVec 32 := 0#32
  let v593 : BitVec 1 := Scalar.cmpi .slt v589 c0_i32_268
  let v594 : BitVec 32 := Scalar.extui v593
  let v595 : BitVec 32 := Scalar.subi v592 v594
  let c64_i32_266 : BitVec 32 := 64#32
  let c0_i32_269 : BitVec 32 := 0#32
  let v596 : BitVec 1 := Scalar.cmpi .sgt c64_i32_266 c0_i32_269
  let v597 : BitVec 32 := Scalar.extui v596
  let c0_i32_270 : BitVec 32 := 0#32
  let v598 : BitVec 1 := Scalar.cmpi .slt c64_i32_266 c0_i32_270
  let v599 : BitVec 32 := Scalar.extui v598
  let v600 : BitVec 32 := Scalar.subi v597 v599
  let v601 : BitVec 1 := Scalar.cmpi .ne v595 v600
  let v602 : BitVec 32 := Scalar.remsi v589 c64_i32_266
  let c0_i32_271 : BitVec 32 := 0#32
  let v603 : BitVec 1 := Scalar.cmpi .ne v602 c0_i32_271
  let v604 : BitVec 1 := Scalar.andi v601 v603
  let v590 : BitVec 32 := Scalar.divsi v589 c64_i32_266
  let c1_i32_272 : BitVec 32 := 1#32
  let v605 : BitVec 32 := Scalar.subi v590 c1_i32_272
  let v606 : BitVec 32 := Scalar.select v604 v605 v590
  let c1_i32_275 : BitVec 32 := 1#32
  let v610 : BitVec 32 := Scalar.addi v606 c1_i32_275
  let c0_i32_277 : BitVec 32 := 0#32
  let v612 : BitVec 1 := Scalar.cmpi .sgt v610 c0_i32_277
  let v613 : BitVec 32 := Scalar.extui v612
  let c0_i32_278 : BitVec 32 := 0#32
  let v614 : BitVec 1 := Scalar.cmpi .slt v610 c0_i32_278
  let v615 : BitVec 32 := Scalar.extui v614
  let v616 : BitVec 32 := Scalar.subi v613 v615
  let c2_i32_276 : BitVec 32 := 2#32
  let c0_i32_279 : BitVec 32 := 0#32
  let v617 : BitVec 1 := Scalar.cmpi .sgt c2_i32_276 c0_i32_279
  let v618 : BitVec 32 := Scalar.extui v617
  let c0_i32_280 : BitVec 32 := 0#32
  let v619 : BitVec 1 := Scalar.cmpi .slt c2_i32_276 c0_i32_280
  let v620 : BitVec 32 := Scalar.extui v619
  let v621 : BitVec 32 := Scalar.subi v618 v620
  let v622 : BitVec 1 := Scalar.cmpi .ne v616 v621
  let v623 : BitVec 32 := Scalar.remsi v610 c2_i32_276
  let c0_i32_281 : BitVec 32 := 0#32
  let v624 : BitVec 1 := Scalar.cmpi .ne v623 c0_i32_281
  let v625 : BitVec 1 := Scalar.andi v622 v624
  let v611 : BitVec 32 := Scalar.divsi v610 c2_i32_276
  let c1_i32_282 : BitVec 32 := 1#32
  let v626 : BitVec 32 := Scalar.subi v611 c1_i32_282
  let v627 : BitVec 32 := Scalar.select v625 v626 v611
  let v628 : BitVec 32 := Scalar.subi v627 c0_i32_283
  let c1_i32_284 : BitVec 32 := 1#32
  let v630 : BitVec 32 := Scalar.divsi v628 c1_i32_284
  let v631 : BitVec 32 := Scalar.muli v630 c1_i32_284
  let v632 : BitVec 32 := Scalar.addi c0_i32_283 v631
  let c1_i32_286 : BitVec 32 := 1#32
  let arg13 : BitVec 32 := Scf.iv v632 c1_i32_286 k1_t36
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v582 v2992
  let c64_i32_1430 : BitVec 32 := 64#32
  let v2994 : BitVec 32 := Scalar.muli v2988 c64_i32_1430
  let v2995 : BitVec 32 := Scalar.addi v582 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v584 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t40
  let v3026 : BitVec 32 := Scalar.addi v3015 arg46
  let v3102 : Index := Scalar.indexCast v3026
  let c240_1461 : Index := 240#32
  ![v3102.toNat, 240]

def k1_chk4_0 (i : grid1.Coords) (v582 : BitVec 32) (v584 : BitVec 32) : Prop :=
  (∀ (k1_h28 : k1_cond28 v582 v584 = 1#1), ∀ a, (k1_off413 i v582) a + S72x256.size a ≤ S100000x512.size a) ∧
  ((k1_t31_loop v582 v584).OK) ∧
  (∀ k1_t31 : Fin (k1_t31_loop v582 v584).trips, ∀ (k1_h29 : k1_cond29 v582 v584 k1_t31 = 1#1), ∀ a, (k1_off414 i v582 v584 k1_t31) a + S72x256.size a ≤ S100000x512.size a) ∧
  (∀ k1_t31 : Fin (k1_t31_loop v582 v584).trips, ∀ (k1_h29 : k1_cond29 v582 v584 k1_t31 = 1#1), ∀ (k1_h30 : k1_cond30 v582 v584 k1_t31 = 1#1), ∀ a, (k1_off415 i v582 v584 k1_t31) a + S72x256.size a ≤ S100000x512.size a) ∧
  (∀ k1_t31 : Fin (k1_t31_loop v582 v584).trips, (k1_t32_loop v582 v584 k1_t31).OK) ∧
  (∀ (k1_t31 : Fin (k1_t31_loop v582 v584).trips) (k1_t32 : Fin (k1_t32_loop v582 v584 k1_t31).trips), ∀ a, (k1_off416 v582 v584 k1_t31 k1_t32) a + S1x16.size a ≤ S72x256.size a) ∧
  (∀ (k1_t31 : Fin (k1_t31_loop v582 v584).trips) (k1_t32 : Fin (k1_t32_loop v582 v584 k1_t31).trips), ∀ a, (k1_off417 v582 v584 k1_t31 k1_t32) a + S1x16.size a ≤ S72x256.size a) ∧
  (∀ (k1_t31 : Fin (k1_t31_loop v582 v584).trips) (k1_t32 : Fin (k1_t32_loop v582 v584 k1_t31).trips), ∀ a, (k1_off418 v582 v584 k1_t31 k1_t32) a + S1x16.size a ≤ S72x256.size a) ∧
  (∀ (k1_t31 : Fin (k1_t31_loop v582 v584).trips) (k1_t32 : Fin (k1_t32_loop v582 v584 k1_t31).trips), ∀ a, (k1_off419 v582 v584 k1_t31 k1_t32) a + S1x16.size a ≤ S72x256.size a) ∧
  (∀ (k1_t31 : Fin (k1_t31_loop v582 v584).trips) (k1_t32 : Fin (k1_t32_loop v582 v584 k1_t31).trips), ∀ a, (k1_off420 v582 v584 k1_t31 k1_t32) a + S1x16.size a ≤ S72x256.size a) ∧
  (∀ (k1_t31 : Fin (k1_t31_loop v582 v584).trips) (k1_t32 : Fin (k1_t32_loop v582 v584 k1_t31).trips), ∀ a, (k1_off421 v582 v584 k1_t31 k1_t32) a + S1x16.size a ≤ S72x256.size a) ∧
  (∀ (k1_t31 : Fin (k1_t31_loop v582 v584).trips) (k1_t32 : Fin (k1_t32_loop v582 v584 k1_t31).trips), ∀ a, (k1_off422 v582 v584 k1_t31 k1_t32) a + S1x16.size a ≤ S72x256.size a) ∧
  (∀ (k1_t31 : Fin (k1_t31_loop v582 v584).trips) (k1_t32 : Fin (k1_t32_loop v582 v584 k1_t31).trips), ∀ a, (k1_off423 v582 v584 k1_t31 k1_t32) a + S1x16.size a ≤ S72x256.size a) ∧
  (∀ (k1_t31 : Fin (k1_t31_loop v582 v584).trips) (k1_t32 : Fin (k1_t32_loop v582 v584 k1_t31).trips), ∀ a, (k1_off424 v582 v584 k1_t31 k1_t32) a + S1x16.size a ≤ S72x256.size a) ∧
  (∀ (k1_t31 : Fin (k1_t31_loop v582 v584).trips) (k1_t32 : Fin (k1_t32_loop v582 v584 k1_t31).trips), ∀ a, (k1_off425 v582 v584 k1_t31 k1_t32) a + S1x16.size a ≤ S72x256.size a) ∧
  (∀ (k1_t31 : Fin (k1_t31_loop v582 v584).trips) (k1_t32 : Fin (k1_t32_loop v582 v584 k1_t31).trips), ∀ a, (k1_off426 v582 v584 k1_t31 k1_t32) a + S1x16.size a ≤ S72x256.size a) ∧
  (∀ (k1_t31 : Fin (k1_t31_loop v582 v584).trips) (k1_t32 : Fin (k1_t32_loop v582 v584 k1_t31).trips), ∀ a, (k1_off427 v582 v584 k1_t31 k1_t32) a + S1x16.size a ≤ S72x256.size a) ∧
  (∀ (k1_t31 : Fin (k1_t31_loop v582 v584).trips) (k1_t32 : Fin (k1_t32_loop v582 v584 k1_t31).trips), ∀ a, (k1_off428 v582 v584 k1_t31 k1_t32) a + S1x16.size a ≤ S72x256.size a) ∧
  (∀ (k1_t31 : Fin (k1_t31_loop v582 v584).trips) (k1_t32 : Fin (k1_t32_loop v582 v584 k1_t31).trips), ∀ a, (k1_off429 v582 v584 k1_t31 k1_t32) a + S1x16.size a ≤ S72x256.size a) ∧
  (∀ (k1_t31 : Fin (k1_t31_loop v582 v584).trips) (k1_t32 : Fin (k1_t32_loop v582 v584 k1_t31).trips), ∀ a, (k1_off430 v582 v584 k1_t31 k1_t32) a + S1x16.size a ≤ S72x256.size a) ∧
  (∀ (k1_t31 : Fin (k1_t31_loop v582 v584).trips) (k1_t32 : Fin (k1_t32_loop v582 v584 k1_t31).trips), ∀ a, (k1_off431 v582 v584 k1_t31 k1_t32) a + S1x16.size a ≤ S72x256.size a) ∧
  (∀ k1_t31 : Fin (k1_t31_loop v582 v584).trips, (k1_t33_loop v582 v584 k1_t31).OK) ∧
  (∀ (k1_t31 : Fin (k1_t31_loop v582 v584).trips) (k1_t33 : Fin (k1_t33_loop v582 v584 k1_t31).trips), ∀ a, (k1_off432 v582 v584 k1_t31 k1_t33) a + S1x16.size a ≤ S72x256.size a) ∧
  (∀ (k1_t31 : Fin (k1_t31_loop v582 v584).trips) (k1_t33 : Fin (k1_t33_loop v582 v584 k1_t31).trips), ∀ a, (k1_off433 v582 v584 k1_t31 k1_t33) a + S1x16.size a ≤ S72x256.size a) ∧
  (∀ (k1_t31 : Fin (k1_t31_loop v582 v584).trips) (k1_t33 : Fin (k1_t33_loop v582 v584 k1_t31).trips), ∀ a, (k1_off434 v582 v584 k1_t31 k1_t33) a + S1x16.size a ≤ S72x256.size a) ∧
  (∀ (k1_t31 : Fin (k1_t31_loop v582 v584).trips) (k1_t33 : Fin (k1_t33_loop v582 v584 k1_t31).trips), ∀ a, (k1_off435 v582 v584 k1_t31 k1_t33) a + S1x16.size a ≤ S72x256.size a) ∧
  (∀ (k1_t31 : Fin (k1_t31_loop v582 v584).trips) (k1_t33 : Fin (k1_t33_loop v582 v584 k1_t31).trips), ∀ a, (k1_off436 v582 v584 k1_t31 k1_t33) a + S1x16.size a ≤ S72x256.size a) ∧
  (∀ (k1_t31 : Fin (k1_t31_loop v582 v584).trips) (k1_t33 : Fin (k1_t33_loop v582 v584 k1_t31).trips), ∀ a, (k1_off437 v582 v584 k1_t31 k1_t33) a + S1x16.size a ≤ S72x256.size a) ∧
  (∀ (k1_t31 : Fin (k1_t31_loop v582 v584).trips) (k1_t33 : Fin (k1_t33_loop v582 v584 k1_t31).trips), ∀ a, (k1_off438 v582 v584 k1_t31 k1_t33) a + S1x16.size a ≤ S72x256.size a) ∧
  (∀ (k1_t31 : Fin (k1_t31_loop v582 v584).trips) (k1_t33 : Fin (k1_t33_loop v582 v584 k1_t31).trips), ∀ a, (k1_off439 v582 v584 k1_t31 k1_t33) a + S1x16.size a ≤ S72x256.size a) ∧
  (∀ (k1_t31 : Fin (k1_t31_loop v582 v584).trips) (k1_t33 : Fin (k1_t33_loop v582 v584 k1_t31).trips), ∀ a, (k1_off440 v582 v584 k1_t31 k1_t33) a + S1x16.size a ≤ S72x256.size a) ∧
  (∀ (k1_t31 : Fin (k1_t31_loop v582 v584).trips) (k1_t33 : Fin (k1_t33_loop v582 v584 k1_t31).trips), ∀ a, (k1_off441 v582 v584 k1_t31 k1_t33) a + S1x16.size a ≤ S72x256.size a)
def k1_chk4_1 (i : grid1.Coords) (v582 : BitVec 32) (v584 : BitVec 32) : Prop :=
  (∀ (k1_t31 : Fin (k1_t31_loop v582 v584).trips) (k1_t33 : Fin (k1_t33_loop v582 v584 k1_t31).trips), ∀ a, (k1_off442 v582 v584 k1_t31 k1_t33) a + S1x16.size a ≤ S72x256.size a) ∧
  (∀ (k1_t31 : Fin (k1_t31_loop v582 v584).trips) (k1_t33 : Fin (k1_t33_loop v582 v584 k1_t31).trips), ∀ a, (k1_off443 v582 v584 k1_t31 k1_t33) a + S1x16.size a ≤ S72x256.size a) ∧
  (∀ (k1_t31 : Fin (k1_t31_loop v582 v584).trips) (k1_t33 : Fin (k1_t33_loop v582 v584 k1_t31).trips), ∀ a, (k1_off444 v582 v584 k1_t31 k1_t33) a + S1x16.size a ≤ S72x256.size a) ∧
  (∀ (k1_t31 : Fin (k1_t31_loop v582 v584).trips) (k1_t33 : Fin (k1_t33_loop v582 v584 k1_t31).trips), ∀ a, (k1_off445 v582 v584 k1_t31 k1_t33) a + S1x16.size a ≤ S72x256.size a) ∧
  (∀ (k1_t31 : Fin (k1_t31_loop v582 v584).trips) (k1_t33 : Fin (k1_t33_loop v582 v584 k1_t31).trips), ∀ a, (k1_off446 v582 v584 k1_t31 k1_t33) a + S1x16.size a ≤ S72x256.size a) ∧
  (∀ (k1_t31 : Fin (k1_t31_loop v582 v584).trips) (k1_t33 : Fin (k1_t33_loop v582 v584 k1_t31).trips), ∀ a, (k1_off447 v582 v584 k1_t31 k1_t33) a + S1x16.size a ≤ S72x256.size a) ∧
  (∀ k1_t31 : Fin (k1_t31_loop v582 v584).trips, ∀ (k1_h31 : k1_cond31 v582 v584 k1_t31 = 1#1), ∀ a, (k1_off448 i v582 v584 k1_t31) a + S72x256.size a ≤ S100000x512.size a) ∧
  (∀ k1_t31 : Fin (k1_t31_loop v582 v584).trips, ∀ (k1_h31 : k1_cond31 v582 v584 k1_t31 = 1#1), ∀ (k1_h32 : k1_cond32 v582 v584 k1_t31 = 1#1), ∀ a, (k1_off449 i v582 v584 k1_t31) a + S72x256.size a ≤ S100000x512.size a) ∧
  (∀ k1_t31 : Fin (k1_t31_loop v582 v584).trips, (k1_t34_loop v582 v584 k1_t31).OK) ∧
  (∀ (k1_t31 : Fin (k1_t31_loop v582 v584).trips) (k1_t34 : Fin (k1_t34_loop v582 v584 k1_t31).trips), ∀ a, (k1_off450 v582 v584 k1_t31 k1_t34) a + S1x16.size a ≤ S72x256.size a) ∧
  (∀ (k1_t31 : Fin (k1_t31_loop v582 v584).trips) (k1_t34 : Fin (k1_t34_loop v582 v584 k1_t31).trips), ∀ a, (k1_off451 v582 v584 k1_t31 k1_t34) a + S1x16.size a ≤ S72x256.size a) ∧
  (∀ (k1_t31 : Fin (k1_t31_loop v582 v584).trips) (k1_t34 : Fin (k1_t34_loop v582 v584 k1_t31).trips), ∀ a, (k1_off452 v582 v584 k1_t31 k1_t34) a + S1x16.size a ≤ S72x256.size a) ∧
  (∀ (k1_t31 : Fin (k1_t31_loop v582 v584).trips) (k1_t34 : Fin (k1_t34_loop v582 v584 k1_t31).trips), ∀ a, (k1_off453 v582 v584 k1_t31 k1_t34) a + S1x16.size a ≤ S72x256.size a) ∧
  (∀ (k1_t31 : Fin (k1_t31_loop v582 v584).trips) (k1_t34 : Fin (k1_t34_loop v582 v584 k1_t31).trips), ∀ a, (k1_off454 v582 v584 k1_t31 k1_t34) a + S1x16.size a ≤ S72x256.size a) ∧
  (∀ (k1_t31 : Fin (k1_t31_loop v582 v584).trips) (k1_t34 : Fin (k1_t34_loop v582 v584 k1_t31).trips), ∀ a, (k1_off455 v582 v584 k1_t31 k1_t34) a + S1x16.size a ≤ S72x256.size a) ∧
  (∀ (k1_t31 : Fin (k1_t31_loop v582 v584).trips) (k1_t34 : Fin (k1_t34_loop v582 v584 k1_t31).trips), ∀ a, (k1_off456 v582 v584 k1_t31 k1_t34) a + S1x16.size a ≤ S72x256.size a) ∧
  (∀ (k1_t31 : Fin (k1_t31_loop v582 v584).trips) (k1_t34 : Fin (k1_t34_loop v582 v584 k1_t31).trips), ∀ a, (k1_off457 v582 v584 k1_t31 k1_t34) a + S1x16.size a ≤ S72x256.size a) ∧
  (∀ (k1_t31 : Fin (k1_t31_loop v582 v584).trips) (k1_t34 : Fin (k1_t34_loop v582 v584 k1_t31).trips), ∀ a, (k1_off458 v582 v584 k1_t31 k1_t34) a + S1x16.size a ≤ S72x256.size a) ∧
  (∀ (k1_t31 : Fin (k1_t31_loop v582 v584).trips) (k1_t34 : Fin (k1_t34_loop v582 v584 k1_t31).trips), ∀ a, (k1_off459 v582 v584 k1_t31 k1_t34) a + S1x16.size a ≤ S72x256.size a) ∧
  (∀ (k1_t31 : Fin (k1_t31_loop v582 v584).trips) (k1_t34 : Fin (k1_t34_loop v582 v584 k1_t31).trips), ∀ a, (k1_off460 v582 v584 k1_t31 k1_t34) a + S1x16.size a ≤ S72x256.size a) ∧
  (∀ (k1_t31 : Fin (k1_t31_loop v582 v584).trips) (k1_t34 : Fin (k1_t34_loop v582 v584 k1_t31).trips), ∀ a, (k1_off461 v582 v584 k1_t31 k1_t34) a + S1x16.size a ≤ S72x256.size a) ∧
  (∀ (k1_t31 : Fin (k1_t31_loop v582 v584).trips) (k1_t34 : Fin (k1_t34_loop v582 v584 k1_t31).trips), ∀ a, (k1_off462 v582 v584 k1_t31 k1_t34) a + S1x16.size a ≤ S72x256.size a) ∧
  (∀ (k1_t31 : Fin (k1_t31_loop v582 v584).trips) (k1_t34 : Fin (k1_t34_loop v582 v584 k1_t31).trips), ∀ a, (k1_off463 v582 v584 k1_t31 k1_t34) a + S1x16.size a ≤ S72x256.size a) ∧
  (∀ (k1_t31 : Fin (k1_t31_loop v582 v584).trips) (k1_t34 : Fin (k1_t34_loop v582 v584 k1_t31).trips), ∀ a, (k1_off464 v582 v584 k1_t31 k1_t34) a + S1x16.size a ≤ S72x256.size a) ∧
  (∀ (k1_t31 : Fin (k1_t31_loop v582 v584).trips) (k1_t34 : Fin (k1_t34_loop v582 v584 k1_t31).trips), ∀ a, (k1_off465 v582 v584 k1_t31 k1_t34) a + S1x16.size a ≤ S72x256.size a) ∧
  (∀ k1_t31 : Fin (k1_t31_loop v582 v584).trips, (k1_t35_loop v582 v584 k1_t31).OK) ∧
  (∀ (k1_t31 : Fin (k1_t31_loop v582 v584).trips) (k1_t35 : Fin (k1_t35_loop v582 v584 k1_t31).trips), ∀ a, (k1_off466 v582 v584 k1_t31 k1_t35) a + S1x16.size a ≤ S72x256.size a) ∧
  (∀ (k1_t31 : Fin (k1_t31_loop v582 v584).trips) (k1_t35 : Fin (k1_t35_loop v582 v584 k1_t31).trips), ∀ a, (k1_off467 v582 v584 k1_t31 k1_t35) a + S1x16.size a ≤ S72x256.size a) ∧
  (∀ (k1_t31 : Fin (k1_t31_loop v582 v584).trips) (k1_t35 : Fin (k1_t35_loop v582 v584 k1_t31).trips), ∀ a, (k1_off468 v582 v584 k1_t31 k1_t35) a + S1x16.size a ≤ S72x256.size a) ∧
  (∀ (k1_t31 : Fin (k1_t31_loop v582 v584).trips) (k1_t35 : Fin (k1_t35_loop v582 v584 k1_t31).trips), ∀ a, (k1_off469 v582 v584 k1_t31 k1_t35) a + S1x16.size a ≤ S72x256.size a) ∧
  (∀ (k1_t31 : Fin (k1_t31_loop v582 v584).trips) (k1_t35 : Fin (k1_t35_loop v582 v584 k1_t31).trips), ∀ a, (k1_off470 v582 v584 k1_t31 k1_t35) a + S1x16.size a ≤ S72x256.size a) ∧
  (∀ (k1_t31 : Fin (k1_t31_loop v582 v584).trips) (k1_t35 : Fin (k1_t35_loop v582 v584 k1_t31).trips), ∀ a, (k1_off471 v582 v584 k1_t31 k1_t35) a + S1x16.size a ≤ S72x256.size a)
def k1_chk4_2 (i : grid1.Coords) (v582 : BitVec 32) (v584 : BitVec 32) : Prop :=
  (∀ (k1_t31 : Fin (k1_t31_loop v582 v584).trips) (k1_t35 : Fin (k1_t35_loop v582 v584 k1_t31).trips), ∀ a, (k1_off472 v582 v584 k1_t31 k1_t35) a + S1x16.size a ≤ S72x256.size a) ∧
  (∀ (k1_t31 : Fin (k1_t31_loop v582 v584).trips) (k1_t35 : Fin (k1_t35_loop v582 v584 k1_t31).trips), ∀ a, (k1_off473 v582 v584 k1_t31 k1_t35) a + S1x16.size a ≤ S72x256.size a) ∧
  (∀ (k1_t31 : Fin (k1_t31_loop v582 v584).trips) (k1_t35 : Fin (k1_t35_loop v582 v584 k1_t31).trips), ∀ a, (k1_off474 v582 v584 k1_t31 k1_t35) a + S1x16.size a ≤ S72x256.size a) ∧
  (∀ (k1_t31 : Fin (k1_t31_loop v582 v584).trips) (k1_t35 : Fin (k1_t35_loop v582 v584 k1_t31).trips), ∀ a, (k1_off475 v582 v584 k1_t31 k1_t35) a + S1x16.size a ≤ S72x256.size a) ∧
  (∀ (k1_t31 : Fin (k1_t31_loop v582 v584).trips) (k1_t35 : Fin (k1_t35_loop v582 v584 k1_t31).trips), ∀ a, (k1_off476 v582 v584 k1_t31 k1_t35) a + S1x16.size a ≤ S72x256.size a) ∧
  (∀ (k1_t31 : Fin (k1_t31_loop v582 v584).trips) (k1_t35 : Fin (k1_t35_loop v582 v584 k1_t31).trips), ∀ a, (k1_off477 v582 v584 k1_t31 k1_t35) a + S1x16.size a ≤ S72x256.size a) ∧
  (∀ (k1_t31 : Fin (k1_t31_loop v582 v584).trips) (k1_t35 : Fin (k1_t35_loop v582 v584 k1_t31).trips), ∀ a, (k1_off478 v582 v584 k1_t31 k1_t35) a + S1x16.size a ≤ S72x256.size a) ∧
  (∀ (k1_t31 : Fin (k1_t31_loop v582 v584).trips) (k1_t35 : Fin (k1_t35_loop v582 v584 k1_t31).trips), ∀ a, (k1_off479 v582 v584 k1_t31 k1_t35) a + S1x16.size a ≤ S72x256.size a) ∧
  (∀ (k1_t31 : Fin (k1_t31_loop v582 v584).trips) (k1_t35 : Fin (k1_t35_loop v582 v584 k1_t31).trips), ∀ a, (k1_off480 v582 v584 k1_t31 k1_t35) a + S1x16.size a ≤ S72x256.size a) ∧
  (∀ (k1_t31 : Fin (k1_t31_loop v582 v584).trips) (k1_t35 : Fin (k1_t35_loop v582 v584 k1_t31).trips), ∀ a, (k1_off481 v582 v584 k1_t31 k1_t35) a + S1x16.size a ≤ S72x256.size a) ∧
  ((k1_t36_loop v582 v584).OK) ∧
  (∀ k1_t36 : Fin (k1_t36_loop v582 v584).trips, ∀ (k1_h33 : k1_cond33 v582 v584 k1_t36 = 1#1), ∀ a, (k1_off482 i v582 v584 k1_t36) a + S72x256.size a ≤ S100000x512.size a) ∧
  (∀ k1_t36 : Fin (k1_t36_loop v582 v584).trips, ∀ (k1_h33 : k1_cond33 v582 v584 k1_t36 = 1#1), ∀ (k1_h34 : k1_cond34 v582 v584 k1_t36 = 1#1), ∀ a, (k1_off483 i v582 v584 k1_t36) a + S72x256.size a ≤ S100000x512.size a) ∧
  (∀ k1_t36 : Fin (k1_t36_loop v582 v584).trips, (k1_t37_loop v582 v584 k1_t36).OK) ∧
  (∀ (k1_t36 : Fin (k1_t36_loop v582 v584).trips) (k1_t37 : Fin (k1_t37_loop v582 v584 k1_t36).trips), ∀ a, (k1_off484 v582 v584 k1_t36 k1_t37) a + S1x16.size a ≤ S72x256.size a) ∧
  (∀ (k1_t36 : Fin (k1_t36_loop v582 v584).trips) (k1_t37 : Fin (k1_t37_loop v582 v584 k1_t36).trips), ∀ a, (k1_off485 v582 v584 k1_t36 k1_t37) a + S1x16.size a ≤ S72x256.size a) ∧
  (∀ (k1_t36 : Fin (k1_t36_loop v582 v584).trips) (k1_t37 : Fin (k1_t37_loop v582 v584 k1_t36).trips), ∀ a, (k1_off486 v582 v584 k1_t36 k1_t37) a + S1x16.size a ≤ S72x256.size a) ∧
  (∀ (k1_t36 : Fin (k1_t36_loop v582 v584).trips) (k1_t37 : Fin (k1_t37_loop v582 v584 k1_t36).trips), ∀ a, (k1_off487 v582 v584 k1_t36 k1_t37) a + S1x16.size a ≤ S72x256.size a) ∧
  (∀ (k1_t36 : Fin (k1_t36_loop v582 v584).trips) (k1_t37 : Fin (k1_t37_loop v582 v584 k1_t36).trips), ∀ a, (k1_off488 v582 v584 k1_t36 k1_t37) a + S1x16.size a ≤ S72x256.size a) ∧
  (∀ (k1_t36 : Fin (k1_t36_loop v582 v584).trips) (k1_t37 : Fin (k1_t37_loop v582 v584 k1_t36).trips), ∀ a, (k1_off489 v582 v584 k1_t36 k1_t37) a + S1x16.size a ≤ S72x256.size a) ∧
  (∀ (k1_t36 : Fin (k1_t36_loop v582 v584).trips) (k1_t37 : Fin (k1_t37_loop v582 v584 k1_t36).trips), ∀ a, (k1_off490 v582 v584 k1_t36 k1_t37) a + S1x16.size a ≤ S72x256.size a) ∧
  (∀ (k1_t36 : Fin (k1_t36_loop v582 v584).trips) (k1_t37 : Fin (k1_t37_loop v582 v584 k1_t36).trips), ∀ a, (k1_off491 v582 v584 k1_t36 k1_t37) a + S1x16.size a ≤ S72x256.size a) ∧
  (∀ (k1_t36 : Fin (k1_t36_loop v582 v584).trips) (k1_t37 : Fin (k1_t37_loop v582 v584 k1_t36).trips), ∀ a, (k1_off492 v582 v584 k1_t36 k1_t37) a + S1x16.size a ≤ S72x256.size a) ∧
  (∀ (k1_t36 : Fin (k1_t36_loop v582 v584).trips) (k1_t37 : Fin (k1_t37_loop v582 v584 k1_t36).trips), ∀ a, (k1_off493 v582 v584 k1_t36 k1_t37) a + S1x16.size a ≤ S72x256.size a) ∧
  (∀ (k1_t36 : Fin (k1_t36_loop v582 v584).trips) (k1_t37 : Fin (k1_t37_loop v582 v584 k1_t36).trips), ∀ a, (k1_off494 v582 v584 k1_t36 k1_t37) a + S1x16.size a ≤ S72x256.size a) ∧
  (∀ (k1_t36 : Fin (k1_t36_loop v582 v584).trips) (k1_t37 : Fin (k1_t37_loop v582 v584 k1_t36).trips), ∀ a, (k1_off495 v582 v584 k1_t36 k1_t37) a + S1x16.size a ≤ S72x256.size a) ∧
  (∀ (k1_t36 : Fin (k1_t36_loop v582 v584).trips) (k1_t37 : Fin (k1_t37_loop v582 v584 k1_t36).trips), ∀ a, (k1_off496 v582 v584 k1_t36 k1_t37) a + S1x16.size a ≤ S72x256.size a) ∧
  (∀ (k1_t36 : Fin (k1_t36_loop v582 v584).trips) (k1_t37 : Fin (k1_t37_loop v582 v584 k1_t36).trips), ∀ a, (k1_off497 v582 v584 k1_t36 k1_t37) a + S1x16.size a ≤ S72x256.size a) ∧
  (∀ (k1_t36 : Fin (k1_t36_loop v582 v584).trips) (k1_t37 : Fin (k1_t37_loop v582 v584 k1_t36).trips), ∀ a, (k1_off498 v582 v584 k1_t36 k1_t37) a + S1x16.size a ≤ S72x256.size a) ∧
  (∀ (k1_t36 : Fin (k1_t36_loop v582 v584).trips) (k1_t37 : Fin (k1_t37_loop v582 v584 k1_t36).trips), ∀ a, (k1_off499 v582 v584 k1_t36 k1_t37) a + S1x16.size a ≤ S72x256.size a) ∧
  (∀ k1_t36 : Fin (k1_t36_loop v582 v584).trips, (k1_t38_loop v582 v584 k1_t36).OK) ∧
  (∀ (k1_t36 : Fin (k1_t36_loop v582 v584).trips) (k1_t38 : Fin (k1_t38_loop v582 v584 k1_t36).trips), ∀ a, (k1_off500 v582 v584 k1_t36 k1_t38) a + S1x16.size a ≤ S72x256.size a)
def k1_chk4_3 (i : grid1.Coords) (v582 : BitVec 32) (v584 : BitVec 32) : Prop :=
  (∀ (k1_t36 : Fin (k1_t36_loop v582 v584).trips) (k1_t38 : Fin (k1_t38_loop v582 v584 k1_t36).trips), ∀ a, (k1_off501 v582 v584 k1_t36 k1_t38) a + S1x16.size a ≤ S72x256.size a) ∧
  (∀ (k1_t36 : Fin (k1_t36_loop v582 v584).trips) (k1_t38 : Fin (k1_t38_loop v582 v584 k1_t36).trips), ∀ a, (k1_off502 v582 v584 k1_t36 k1_t38) a + S1x16.size a ≤ S72x256.size a) ∧
  (∀ (k1_t36 : Fin (k1_t36_loop v582 v584).trips) (k1_t38 : Fin (k1_t38_loop v582 v584 k1_t36).trips), ∀ a, (k1_off503 v582 v584 k1_t36 k1_t38) a + S1x16.size a ≤ S72x256.size a) ∧
  (∀ (k1_t36 : Fin (k1_t36_loop v582 v584).trips) (k1_t38 : Fin (k1_t38_loop v582 v584 k1_t36).trips), ∀ a, (k1_off504 v582 v584 k1_t36 k1_t38) a + S1x16.size a ≤ S72x256.size a) ∧
  (∀ (k1_t36 : Fin (k1_t36_loop v582 v584).trips) (k1_t38 : Fin (k1_t38_loop v582 v584 k1_t36).trips), ∀ a, (k1_off505 v582 v584 k1_t36 k1_t38) a + S1x16.size a ≤ S72x256.size a) ∧
  (∀ (k1_t36 : Fin (k1_t36_loop v582 v584).trips) (k1_t38 : Fin (k1_t38_loop v582 v584 k1_t36).trips), ∀ a, (k1_off506 v582 v584 k1_t36 k1_t38) a + S1x16.size a ≤ S72x256.size a) ∧
  (∀ (k1_t36 : Fin (k1_t36_loop v582 v584).trips) (k1_t38 : Fin (k1_t38_loop v582 v584 k1_t36).trips), ∀ a, (k1_off507 v582 v584 k1_t36 k1_t38) a + S1x16.size a ≤ S72x256.size a) ∧
  (∀ (k1_t36 : Fin (k1_t36_loop v582 v584).trips) (k1_t38 : Fin (k1_t38_loop v582 v584 k1_t36).trips), ∀ a, (k1_off508 v582 v584 k1_t36 k1_t38) a + S1x16.size a ≤ S72x256.size a) ∧
  (∀ (k1_t36 : Fin (k1_t36_loop v582 v584).trips) (k1_t38 : Fin (k1_t38_loop v582 v584 k1_t36).trips), ∀ a, (k1_off509 v582 v584 k1_t36 k1_t38) a + S1x16.size a ≤ S72x256.size a) ∧
  (∀ (k1_t36 : Fin (k1_t36_loop v582 v584).trips) (k1_t38 : Fin (k1_t38_loop v582 v584 k1_t36).trips), ∀ a, (k1_off510 v582 v584 k1_t36 k1_t38) a + S1x16.size a ≤ S72x256.size a) ∧
  (∀ (k1_t36 : Fin (k1_t36_loop v582 v584).trips) (k1_t38 : Fin (k1_t38_loop v582 v584 k1_t36).trips), ∀ a, (k1_off511 v582 v584 k1_t36 k1_t38) a + S1x16.size a ≤ S72x256.size a) ∧
  (∀ (k1_t36 : Fin (k1_t36_loop v582 v584).trips) (k1_t38 : Fin (k1_t38_loop v582 v584 k1_t36).trips), ∀ a, (k1_off512 v582 v584 k1_t36 k1_t38) a + S1x16.size a ≤ S72x256.size a) ∧
  (∀ (k1_t36 : Fin (k1_t36_loop v582 v584).trips) (k1_t38 : Fin (k1_t38_loop v582 v584 k1_t36).trips), ∀ a, (k1_off513 v582 v584 k1_t36 k1_t38) a + S1x16.size a ≤ S72x256.size a) ∧
  (∀ (k1_t36 : Fin (k1_t36_loop v582 v584).trips) (k1_t38 : Fin (k1_t38_loop v582 v584 k1_t36).trips), ∀ a, (k1_off514 v582 v584 k1_t36 k1_t38) a + S1x16.size a ≤ S72x256.size a) ∧
  (∀ (k1_t36 : Fin (k1_t36_loop v582 v584).trips) (k1_t38 : Fin (k1_t38_loop v582 v584 k1_t36).trips), ∀ a, (k1_off515 v582 v584 k1_t36 k1_t38) a + S1x16.size a ≤ S72x256.size a) ∧
  (∀ k1_t36 : Fin (k1_t36_loop v582 v584).trips, ∀ (k1_h35 : k1_cond35 v582 v584 k1_t36 = 1#1), ∀ a, (k1_off516 i v582 v584 k1_t36) a + S72x256.size a ≤ S100000x512.size a) ∧
  (∀ k1_t36 : Fin (k1_t36_loop v582 v584).trips, ∀ (k1_h35 : k1_cond35 v582 v584 k1_t36 = 1#1), ∀ (k1_h36 : k1_cond36 v582 v584 k1_t36 = 1#1), ∀ a, (k1_off517 i v582 v584 k1_t36) a + S72x256.size a ≤ S100000x512.size a) ∧
  (∀ k1_t36 : Fin (k1_t36_loop v582 v584).trips, (k1_t39_loop v582 v584 k1_t36).OK) ∧
  (∀ (k1_t36 : Fin (k1_t36_loop v582 v584).trips) (k1_t39 : Fin (k1_t39_loop v582 v584 k1_t36).trips), ∀ a, (k1_off518 v582 v584 k1_t36 k1_t39) a + S1x16.size a ≤ S72x256.size a) ∧
  (∀ (k1_t36 : Fin (k1_t36_loop v582 v584).trips) (k1_t39 : Fin (k1_t39_loop v582 v584 k1_t36).trips), ∀ a, (k1_off519 v582 v584 k1_t36 k1_t39) a + S1x16.size a ≤ S72x256.size a) ∧
  (∀ (k1_t36 : Fin (k1_t36_loop v582 v584).trips) (k1_t39 : Fin (k1_t39_loop v582 v584 k1_t36).trips), ∀ a, (k1_off520 v582 v584 k1_t36 k1_t39) a + S1x16.size a ≤ S72x256.size a) ∧
  (∀ (k1_t36 : Fin (k1_t36_loop v582 v584).trips) (k1_t39 : Fin (k1_t39_loop v582 v584 k1_t36).trips), ∀ a, (k1_off521 v582 v584 k1_t36 k1_t39) a + S1x16.size a ≤ S72x256.size a) ∧
  (∀ (k1_t36 : Fin (k1_t36_loop v582 v584).trips) (k1_t39 : Fin (k1_t39_loop v582 v584 k1_t36).trips), ∀ a, (k1_off522 v582 v584 k1_t36 k1_t39) a + S1x16.size a ≤ S72x256.size a) ∧
  (∀ (k1_t36 : Fin (k1_t36_loop v582 v584).trips) (k1_t39 : Fin (k1_t39_loop v582 v584 k1_t36).trips), ∀ a, (k1_off523 v582 v584 k1_t36 k1_t39) a + S1x16.size a ≤ S72x256.size a) ∧
  (∀ (k1_t36 : Fin (k1_t36_loop v582 v584).trips) (k1_t39 : Fin (k1_t39_loop v582 v584 k1_t36).trips), ∀ a, (k1_off524 v582 v584 k1_t36 k1_t39) a + S1x16.size a ≤ S72x256.size a) ∧
  (∀ (k1_t36 : Fin (k1_t36_loop v582 v584).trips) (k1_t39 : Fin (k1_t39_loop v582 v584 k1_t36).trips), ∀ a, (k1_off525 v582 v584 k1_t36 k1_t39) a + S1x16.size a ≤ S72x256.size a) ∧
  (∀ (k1_t36 : Fin (k1_t36_loop v582 v584).trips) (k1_t39 : Fin (k1_t39_loop v582 v584 k1_t36).trips), ∀ a, (k1_off526 v582 v584 k1_t36 k1_t39) a + S1x16.size a ≤ S72x256.size a) ∧
  (∀ (k1_t36 : Fin (k1_t36_loop v582 v584).trips) (k1_t39 : Fin (k1_t39_loop v582 v584 k1_t36).trips), ∀ a, (k1_off527 v582 v584 k1_t36 k1_t39) a + S1x16.size a ≤ S72x256.size a) ∧
  (∀ (k1_t36 : Fin (k1_t36_loop v582 v584).trips) (k1_t39 : Fin (k1_t39_loop v582 v584 k1_t36).trips), ∀ a, (k1_off528 v582 v584 k1_t36 k1_t39) a + S1x16.size a ≤ S72x256.size a) ∧
  (∀ (k1_t36 : Fin (k1_t36_loop v582 v584).trips) (k1_t39 : Fin (k1_t39_loop v582 v584 k1_t36).trips), ∀ a, (k1_off529 v582 v584 k1_t36 k1_t39) a + S1x16.size a ≤ S72x256.size a) ∧
  (∀ (k1_t36 : Fin (k1_t36_loop v582 v584).trips) (k1_t39 : Fin (k1_t39_loop v582 v584 k1_t36).trips), ∀ a, (k1_off530 v582 v584 k1_t36 k1_t39) a + S1x16.size a ≤ S72x256.size a) ∧
  (∀ (k1_t36 : Fin (k1_t36_loop v582 v584).trips) (k1_t39 : Fin (k1_t39_loop v582 v584 k1_t36).trips), ∀ a, (k1_off531 v582 v584 k1_t36 k1_t39) a + S1x16.size a ≤ S72x256.size a)
def k1_chk4_4 (i : grid1.Coords) (v582 : BitVec 32) (v584 : BitVec 32) : Prop :=
  (∀ (k1_t36 : Fin (k1_t36_loop v582 v584).trips) (k1_t39 : Fin (k1_t39_loop v582 v584 k1_t36).trips), ∀ a, (k1_off532 v582 v584 k1_t36 k1_t39) a + S1x16.size a ≤ S72x256.size a) ∧
  (∀ (k1_t36 : Fin (k1_t36_loop v582 v584).trips) (k1_t39 : Fin (k1_t39_loop v582 v584 k1_t36).trips), ∀ a, (k1_off533 v582 v584 k1_t36 k1_t39) a + S1x16.size a ≤ S72x256.size a) ∧
  (∀ k1_t36 : Fin (k1_t36_loop v582 v584).trips, (k1_t40_loop v582 v584 k1_t36).OK) ∧
  (∀ (k1_t36 : Fin (k1_t36_loop v582 v584).trips) (k1_t40 : Fin (k1_t40_loop v582 v584 k1_t36).trips), ∀ a, (k1_off534 v582 v584 k1_t36 k1_t40) a + S1x16.size a ≤ S72x256.size a) ∧
  (∀ (k1_t36 : Fin (k1_t36_loop v582 v584).trips) (k1_t40 : Fin (k1_t40_loop v582 v584 k1_t36).trips), ∀ a, (k1_off535 v582 v584 k1_t36 k1_t40) a + S1x16.size a ≤ S72x256.size a) ∧
  (∀ (k1_t36 : Fin (k1_t36_loop v582 v584).trips) (k1_t40 : Fin (k1_t40_loop v582 v584 k1_t36).trips), ∀ a, (k1_off536 v582 v584 k1_t36 k1_t40) a + S1x16.size a ≤ S72x256.size a) ∧
  (∀ (k1_t36 : Fin (k1_t36_loop v582 v584).trips) (k1_t40 : Fin (k1_t40_loop v582 v584 k1_t36).trips), ∀ a, (k1_off537 v582 v584 k1_t36 k1_t40) a + S1x16.size a ≤ S72x256.size a) ∧
  (∀ (k1_t36 : Fin (k1_t36_loop v582 v584).trips) (k1_t40 : Fin (k1_t40_loop v582 v584 k1_t36).trips), ∀ a, (k1_off538 v582 v584 k1_t36 k1_t40) a + S1x16.size a ≤ S72x256.size a) ∧
  (∀ (k1_t36 : Fin (k1_t36_loop v582 v584).trips) (k1_t40 : Fin (k1_t40_loop v582 v584 k1_t36).trips), ∀ a, (k1_off539 v582 v584 k1_t36 k1_t40) a + S1x16.size a ≤ S72x256.size a) ∧
  (∀ (k1_t36 : Fin (k1_t36_loop v582 v584).trips) (k1_t40 : Fin (k1_t40_loop v582 v584 k1_t36).trips), ∀ a, (k1_off540 v582 v584 k1_t36 k1_t40) a + S1x16.size a ≤ S72x256.size a) ∧
  (∀ (k1_t36 : Fin (k1_t36_loop v582 v584).trips) (k1_t40 : Fin (k1_t40_loop v582 v584 k1_t36).trips), ∀ a, (k1_off541 v582 v584 k1_t36 k1_t40) a + S1x16.size a ≤ S72x256.size a) ∧
  (∀ (k1_t36 : Fin (k1_t36_loop v582 v584).trips) (k1_t40 : Fin (k1_t40_loop v582 v584 k1_t36).trips), ∀ a, (k1_off542 v582 v584 k1_t36 k1_t40) a + S1x16.size a ≤ S72x256.size a) ∧
  (∀ (k1_t36 : Fin (k1_t36_loop v582 v584).trips) (k1_t40 : Fin (k1_t40_loop v582 v584 k1_t36).trips), ∀ a, (k1_off543 v582 v584 k1_t36 k1_t40) a + S1x16.size a ≤ S72x256.size a) ∧
  (∀ (k1_t36 : Fin (k1_t36_loop v582 v584).trips) (k1_t40 : Fin (k1_t40_loop v582 v584 k1_t36).trips), ∀ a, (k1_off544 v582 v584 k1_t36 k1_t40) a + S1x16.size a ≤ S72x256.size a) ∧
  (∀ (k1_t36 : Fin (k1_t36_loop v582 v584).trips) (k1_t40 : Fin (k1_t40_loop v582 v584 k1_t36).trips), ∀ a, (k1_off545 v582 v584 k1_t36 k1_t40) a + S1x16.size a ≤ S72x256.size a) ∧
  (∀ (k1_t36 : Fin (k1_t36_loop v582 v584).trips) (k1_t40 : Fin (k1_t40_loop v582 v584 k1_t36).trips), ∀ a, (k1_off546 v582 v584 k1_t36 k1_t40) a + S1x16.size a ≤ S72x256.size a) ∧
  (∀ (k1_t36 : Fin (k1_t36_loop v582 v584).trips) (k1_t40 : Fin (k1_t40_loop v582 v584 k1_t36).trips), ∀ a, (k1_off547 v582 v584 k1_t36 k1_t40) a + S1x16.size a ≤ S72x256.size a) ∧
  (∀ (k1_t36 : Fin (k1_t36_loop v582 v584).trips) (k1_t40 : Fin (k1_t40_loop v582 v584 k1_t36).trips), ∀ a, (k1_off548 v582 v584 k1_t36 k1_t40) a + S1x16.size a ≤ S72x256.size a) ∧
  (∀ (k1_t36 : Fin (k1_t36_loop v582 v584).trips) (k1_t40 : Fin (k1_t40_loop v582 v584 k1_t36).trips), ∀ a, (k1_off549 v582 v584 k1_t36 k1_t40) a + S1x16.size a ≤ S72x256.size a)
def k1_chk4 (i : grid1.Coords) (v582 : BitVec 32) (v584 : BitVec 32) : Prop :=
  k1_chk4_0 i v582 v584 ∧
  k1_chk4_1 i v582 v584 ∧
  k1_chk4_2 i v582 v584 ∧
  k1_chk4_3 i v582 v584 ∧
  k1_chk4_4 i v582 v584
theorem k1_off413_inb : ∀ (i : grid1.Coords) (v582 : BitVec 32) (v584 : BitVec 32) (k1_hw4 : k1_chk4 i v582 v584), ∀ (k1_h28 : k1_cond28 v582 v584 = 1#1), ∀ a, (k1_off413 i v582) a + S72x256.size a ≤ S100000x512.size a := fun i v582 v584 k1_hw4 k1_h28 => k1_hw4.1.1 k1_h28
theorem k1_t31_ok : ∀ (i : grid1.Coords) (v582 : BitVec 32) (v584 : BitVec 32) (k1_hw4 : k1_chk4 i v582 v584), (k1_t31_loop v582 v584).OK := fun i v582 v584 k1_hw4 => k1_hw4.1.2.1
theorem k1_off414_inb : ∀ (i : grid1.Coords) (v582 : BitVec 32) (v584 : BitVec 32) (k1_hw4 : k1_chk4 i v582 v584) (k1_t31 : Fin (k1_t31_loop v582 v584).trips), ∀ (k1_h29 : k1_cond29 v582 v584 k1_t31 = 1#1), ∀ a, (k1_off414 i v582 v584 k1_t31) a + S72x256.size a ≤ S100000x512.size a := fun i v582 v584 k1_hw4 k1_t31 k1_h29 => k1_hw4.1.2.2.1 k1_t31 k1_h29
theorem k1_off415_inb : ∀ (i : grid1.Coords) (v582 : BitVec 32) (v584 : BitVec 32) (k1_hw4 : k1_chk4 i v582 v584) (k1_t31 : Fin (k1_t31_loop v582 v584).trips), ∀ (k1_h29 : k1_cond29 v582 v584 k1_t31 = 1#1), ∀ (k1_h30 : k1_cond30 v582 v584 k1_t31 = 1#1), ∀ a, (k1_off415 i v582 v584 k1_t31) a + S72x256.size a ≤ S100000x512.size a := fun i v582 v584 k1_hw4 k1_t31 k1_h29 k1_h30 => k1_hw4.1.2.2.2.1 k1_t31 k1_h29 k1_h30
theorem k1_t32_ok : ∀ (i : grid1.Coords) (v582 : BitVec 32) (v584 : BitVec 32) (k1_hw4 : k1_chk4 i v582 v584) (k1_t31 : Fin (k1_t31_loop v582 v584).trips), (k1_t32_loop v582 v584 k1_t31).OK := fun i v582 v584 k1_hw4 k1_t31 => k1_hw4.1.2.2.2.2.1 k1_t31
theorem k1_off416_inb : ∀ (i : grid1.Coords) (v582 : BitVec 32) (v584 : BitVec 32) (k1_hw4 : k1_chk4 i v582 v584) (k1_t31 : Fin (k1_t31_loop v582 v584).trips) (k1_t32 : Fin (k1_t32_loop v582 v584 k1_t31).trips), ∀ a, (k1_off416 v582 v584 k1_t31 k1_t32) a + S1x16.size a ≤ S72x256.size a := fun i v582 v584 k1_hw4 k1_t31 k1_t32 => k1_hw4.1.2.2.2.2.2.1 k1_t31 k1_t32
theorem k1_off417_inb : ∀ (i : grid1.Coords) (v582 : BitVec 32) (v584 : BitVec 32) (k1_hw4 : k1_chk4 i v582 v584) (k1_t31 : Fin (k1_t31_loop v582 v584).trips) (k1_t32 : Fin (k1_t32_loop v582 v584 k1_t31).trips), ∀ a, (k1_off417 v582 v584 k1_t31 k1_t32) a + S1x16.size a ≤ S72x256.size a := fun i v582 v584 k1_hw4 k1_t31 k1_t32 => k1_hw4.1.2.2.2.2.2.2.1 k1_t31 k1_t32
theorem k1_off418_inb : ∀ (i : grid1.Coords) (v582 : BitVec 32) (v584 : BitVec 32) (k1_hw4 : k1_chk4 i v582 v584) (k1_t31 : Fin (k1_t31_loop v582 v584).trips) (k1_t32 : Fin (k1_t32_loop v582 v584 k1_t31).trips), ∀ a, (k1_off418 v582 v584 k1_t31 k1_t32) a + S1x16.size a ≤ S72x256.size a := fun i v582 v584 k1_hw4 k1_t31 k1_t32 => k1_hw4.1.2.2.2.2.2.2.2.1 k1_t31 k1_t32
theorem k1_off419_inb : ∀ (i : grid1.Coords) (v582 : BitVec 32) (v584 : BitVec 32) (k1_hw4 : k1_chk4 i v582 v584) (k1_t31 : Fin (k1_t31_loop v582 v584).trips) (k1_t32 : Fin (k1_t32_loop v582 v584 k1_t31).trips), ∀ a, (k1_off419 v582 v584 k1_t31 k1_t32) a + S1x16.size a ≤ S72x256.size a := fun i v582 v584 k1_hw4 k1_t31 k1_t32 => k1_hw4.1.2.2.2.2.2.2.2.2.1 k1_t31 k1_t32
theorem k1_off420_inb : ∀ (i : grid1.Coords) (v582 : BitVec 32) (v584 : BitVec 32) (k1_hw4 : k1_chk4 i v582 v584) (k1_t31 : Fin (k1_t31_loop v582 v584).trips) (k1_t32 : Fin (k1_t32_loop v582 v584 k1_t31).trips), ∀ a, (k1_off420 v582 v584 k1_t31 k1_t32) a + S1x16.size a ≤ S72x256.size a := fun i v582 v584 k1_hw4 k1_t31 k1_t32 => k1_hw4.1.2.2.2.2.2.2.2.2.2.1 k1_t31 k1_t32
theorem k1_off421_inb : ∀ (i : grid1.Coords) (v582 : BitVec 32) (v584 : BitVec 32) (k1_hw4 : k1_chk4 i v582 v584) (k1_t31 : Fin (k1_t31_loop v582 v584).trips) (k1_t32 : Fin (k1_t32_loop v582 v584 k1_t31).trips), ∀ a, (k1_off421 v582 v584 k1_t31 k1_t32) a + S1x16.size a ≤ S72x256.size a := fun i v582 v584 k1_hw4 k1_t31 k1_t32 => k1_hw4.1.2.2.2.2.2.2.2.2.2.2.1 k1_t31 k1_t32
theorem k1_off422_inb : ∀ (i : grid1.Coords) (v582 : BitVec 32) (v584 : BitVec 32) (k1_hw4 : k1_chk4 i v582 v584) (k1_t31 : Fin (k1_t31_loop v582 v584).trips) (k1_t32 : Fin (k1_t32_loop v582 v584 k1_t31).trips), ∀ a, (k1_off422 v582 v584 k1_t31 k1_t32) a + S1x16.size a ≤ S72x256.size a := fun i v582 v584 k1_hw4 k1_t31 k1_t32 => k1_hw4.1.2.2.2.2.2.2.2.2.2.2.2.1 k1_t31 k1_t32
theorem k1_off423_inb : ∀ (i : grid1.Coords) (v582 : BitVec 32) (v584 : BitVec 32) (k1_hw4 : k1_chk4 i v582 v584) (k1_t31 : Fin (k1_t31_loop v582 v584).trips) (k1_t32 : Fin (k1_t32_loop v582 v584 k1_t31).trips), ∀ a, (k1_off423 v582 v584 k1_t31 k1_t32) a + S1x16.size a ≤ S72x256.size a := fun i v582 v584 k1_hw4 k1_t31 k1_t32 => k1_hw4.1.2.2.2.2.2.2.2.2.2.2.2.2.1 k1_t31 k1_t32
theorem k1_off424_inb : ∀ (i : grid1.Coords) (v582 : BitVec 32) (v584 : BitVec 32) (k1_hw4 : k1_chk4 i v582 v584) (k1_t31 : Fin (k1_t31_loop v582 v584).trips) (k1_t32 : Fin (k1_t32_loop v582 v584 k1_t31).trips), ∀ a, (k1_off424 v582 v584 k1_t31 k1_t32) a + S1x16.size a ≤ S72x256.size a := fun i v582 v584 k1_hw4 k1_t31 k1_t32 => k1_hw4.1.2.2.2.2.2.2.2.2.2.2.2.2.2.1 k1_t31 k1_t32
theorem k1_off425_inb : ∀ (i : grid1.Coords) (v582 : BitVec 32) (v584 : BitVec 32) (k1_hw4 : k1_chk4 i v582 v584) (k1_t31 : Fin (k1_t31_loop v582 v584).trips) (k1_t32 : Fin (k1_t32_loop v582 v584 k1_t31).trips), ∀ a, (k1_off425 v582 v584 k1_t31 k1_t32) a + S1x16.size a ≤ S72x256.size a := fun i v582 v584 k1_hw4 k1_t31 k1_t32 => k1_hw4.1.2.2.2.2.2.2.2.2.2.2.2.2.2.2.1 k1_t31 k1_t32
theorem k1_off426_inb : ∀ (i : grid1.Coords) (v582 : BitVec 32) (v584 : BitVec 32) (k1_hw4 : k1_chk4 i v582 v584) (k1_t31 : Fin (k1_t31_loop v582 v584).trips) (k1_t32 : Fin (k1_t32_loop v582 v584 k1_t31).trips), ∀ a, (k1_off426 v582 v584 k1_t31 k1_t32) a + S1x16.size a ≤ S72x256.size a := fun i v582 v584 k1_hw4 k1_t31 k1_t32 => k1_hw4.1.2.2.2.2.2.2.2.2.2.2.2.2.2.2.2.1 k1_t31 k1_t32
theorem k1_off427_inb : ∀ (i : grid1.Coords) (v582 : BitVec 32) (v584 : BitVec 32) (k1_hw4 : k1_chk4 i v582 v584) (k1_t31 : Fin (k1_t31_loop v582 v584).trips) (k1_t32 : Fin (k1_t32_loop v582 v584 k1_t31).trips), ∀ a, (k1_off427 v582 v584 k1_t31 k1_t32) a + S1x16.size a ≤ S72x256.size a := fun i v582 v584 k1_hw4 k1_t31 k1_t32 => k1_hw4.1.2.2.2.2.2.2.2.2.2.2.2.2.2.2.2.2.1 k1_t31 k1_t32
theorem k1_off428_inb : ∀ (i : grid1.Coords) (v582 : BitVec 32) (v584 : BitVec 32) (k1_hw4 : k1_chk4 i v582 v584) (k1_t31 : Fin (k1_t31_loop v582 v584).trips) (k1_t32 : Fin (k1_t32_loop v582 v584 k1_t31).trips), ∀ a, (k1_off428 v582 v584 k1_t31 k1_t32) a + S1x16.size a ≤ S72x256.size a := fun i v582 v584 k1_hw4 k1_t31 k1_t32 => k1_hw4.1.2.2.2.2.2.2.2.2.2.2.2.2.2.2.2.2.2.1 k1_t31 k1_t32
theorem k1_off429_inb : ∀ (i : grid1.Coords) (v582 : BitVec 32) (v584 : BitVec 32) (k1_hw4 : k1_chk4 i v582 v584) (k1_t31 : Fin (k1_t31_loop v582 v584).trips) (k1_t32 : Fin (k1_t32_loop v582 v584 k1_t31).trips), ∀ a, (k1_off429 v582 v584 k1_t31 k1_t32) a + S1x16.size a ≤ S72x256.size a := fun i v582 v584 k1_hw4 k1_t31 k1_t32 => k1_hw4.1.2.2.2.2.2.2.2.2.2.2.2.2.2.2.2.2.2.2.1 k1_t31 k1_t32
theorem k1_off430_inb : ∀ (i : grid1.Coords) (v582 : BitVec 32) (v584 : BitVec 32) (k1_hw4 : k1_chk4 i v582 v584) (k1_t31 : Fin (k1_t31_loop v582 v584).trips) (k1_t32 : Fin (k1_t32_loop v582 v584 k1_t31).trips), ∀ a, (k1_off430 v582 v584 k1_t31 k1_t32) a + S1x16.size a ≤ S72x256.size a := fun i v582 v584 k1_hw4 k1_t31 k1_t32 => k1_hw4.1.2.2.2.2.2.2.2.2.2.2.2.2.2.2.2.2.2.2.2.1 k1_t31 k1_t32
theorem k1_off431_inb : ∀ (i : grid1.Coords) (v582 : BitVec 32) (v584 : BitVec 32) (k1_hw4 : k1_chk4 i v582 v584) (k1_t31 : Fin (k1_t31_loop v582 v584).trips) (k1_t32 : Fin (k1_t32_loop v582 v584 k1_t31).trips), ∀ a, (k1_off431 v582 v584 k1_t31 k1_t32) a + S1x16.size a ≤ S72x256.size a := fun i v582 v584 k1_hw4 k1_t31 k1_t32 => k1_hw4.1.2.2.2.2.2.2.2.2.2.2.2.2.2.2.2.2.2.2.2.2.1 k1_t31 k1_t32
theorem k1_t33_ok : ∀ (i : grid1.Coords) (v582 : BitVec 32) (v584 : BitVec 32) (k1_hw4 : k1_chk4 i v582 v584) (k1_t31 : Fin (k1_t31_loop v582 v584).trips), (k1_t33_loop v582 v584 k1_t31).OK := fun i v582 v584 k1_hw4 k1_t31 => k1_hw4.1.2.2.2.2.2.2.2.2.2.2.2.2.2.2.2.2.2.2.2.2.2.1 k1_t31
theorem k1_off432_inb : ∀ (i : grid1.Coords) (v582 : BitVec 32) (v584 : BitVec 32) (k1_hw4 : k1_chk4 i v582 v584) (k1_t31 : Fin (k1_t31_loop v582 v584).trips) (k1_t33 : Fin (k1_t33_loop v582 v584 k1_t31).trips), ∀ a, (k1_off432 v582 v584 k1_t31 k1_t33) a + S1x16.size a ≤ S72x256.size a := fun i v582 v584 k1_hw4 k1_t31 k1_t33 => k1_hw4.1.2.2.2.2.2.2.2.2.2.2.2.2.2.2.2.2.2.2.2.2.2.2.1 k1_t31 k1_t33
theorem k1_off433_inb : ∀ (i : grid1.Coords) (v582 : BitVec 32) (v584 : BitVec 32) (k1_hw4 : k1_chk4 i v582 v584) (k1_t31 : Fin (k1_t31_loop v582 v584).trips) (k1_t33 : Fin (k1_t33_loop v582 v584 k1_t31).trips), ∀ a, (k1_off433 v582 v584 k1_t31 k1_t33) a + S1x16.size a ≤ S72x256.size a := fun i v582 v584 k1_hw4 k1_t31 k1_t33 => k1_hw4.1.2.2.2.2.2.2.2.2.2.2.2.2.2.2.2.2.2.2.2.2.2.2.2.1 k1_t31 k1_t33
theorem k1_off434_inb : ∀ (i : grid1.Coords) (v582 : BitVec 32) (v584 : BitVec 32) (k1_hw4 : k1_chk4 i v582 v584) (k1_t31 : Fin (k1_t31_loop v582 v584).trips) (k1_t33 : Fin (k1_t33_loop v582 v584 k1_t31).trips), ∀ a, (k1_off434 v582 v584 k1_t31 k1_t33) a + S1x16.size a ≤ S72x256.size a := fun i v582 v584 k1_hw4 k1_t31 k1_t33 => k1_hw4.1.2.2.2.2.2.2.2.2.2.2.2.2.2.2.2.2.2.2.2.2.2.2.2.2.1 k1_t31 k1_t33
theorem k1_off435_inb : ∀ (i : grid1.Coords) (v582 : BitVec 32) (v584 : BitVec 32) (k1_hw4 : k1_chk4 i v582 v584) (k1_t31 : Fin (k1_t31_loop v582 v584).trips) (k1_t33 : Fin (k1_t33_loop v582 v584 k1_t31).trips), ∀ a, (k1_off435 v582 v584 k1_t31 k1_t33) a + S1x16.size a ≤ S72x256.size a := fun i v582 v584 k1_hw4 k1_t31 k1_t33 => k1_hw4.1.2.2.2.2.2.2.2.2.2.2.2.2.2.2.2.2.2.2.2.2.2.2.2.2.2.1 k1_t31 k1_t33
theorem k1_off436_inb : ∀ (i : grid1.Coords) (v582 : BitVec 32) (v584 : BitVec 32) (k1_hw4 : k1_chk4 i v582 v584) (k1_t31 : Fin (k1_t31_loop v582 v584).trips) (k1_t33 : Fin (k1_t33_loop v582 v584 k1_t31).trips), ∀ a, (k1_off436 v582 v584 k1_t31 k1_t33) a + S1x16.size a ≤ S72x256.size a := fun i v582 v584 k1_hw4 k1_t31 k1_t33 => k1_hw4.1.2.2.2.2.2.2.2.2.2.2.2.2.2.2.2.2.2.2.2.2.2.2.2.2.2.2.1 k1_t31 k1_t33
theorem k1_off437_inb : ∀ (i : grid1.Coords) (v582 : BitVec 32) (v584 : BitVec 32) (k1_hw4 : k1_chk4 i v582 v584) (k1_t31 : Fin (k1_t31_loop v582 v584).trips) (k1_t33 : Fin (k1_t33_loop v582 v584 k1_t31).trips), ∀ a, (k1_off437 v582 v584 k1_t31 k1_t33) a + S1x16.size a ≤ S72x256.size a := fun i v582 v584 k1_hw4 k1_t31 k1_t33 => k1_hw4.1.2.2.2.2.2.2.2.2.2.2.2.2.2.2.2.2.2.2.2.2.2.2.2.2.2.2.2.1 k1_t31 k1_t33
theorem k1_off438_inb : ∀ (i : grid1.Coords) (v582 : BitVec 32) (v584 : BitVec 32) (k1_hw4 : k1_chk4 i v582 v584) (k1_t31 : Fin (k1_t31_loop v582 v584).trips) (k1_t33 : Fin (k1_t33_loop v582 v584 k1_t31).trips), ∀ a, (k1_off438 v582 v584 k1_t31 k1_t33) a + S1x16.size a ≤ S72x256.size a := fun i v582 v584 k1_hw4 k1_t31 k1_t33 => k1_hw4.1.2.2.2.2.2.2.2.2.2.2.2.2.2.2.2.2.2.2.2.2.2.2.2.2.2.2.2.2.1 k1_t31 k1_t33
theorem k1_off439_inb : ∀ (i : grid1.Coords) (v582 : BitVec 32) (v584 : BitVec 32) (k1_hw4 : k1_chk4 i v582 v584) (k1_t31 : Fin (k1_t31_loop v582 v584).trips) (k1_t33 : Fin (k1_t33_loop v582 v584 k1_t31).trips), ∀ a, (k1_off439 v582 v584 k1_t31 k1_t33) a + S1x16.size a ≤ S72x256.size a := fun i v582 v584 k1_hw4 k1_t31 k1_t33 => k1_hw4.1.2.2.2.2.2.2.2.2.2.2.2.2.2.2.2.2.2.2.2.2.2.2.2.2.2.2.2.2.2.1 k1_t31 k1_t33
theorem k1_off440_inb : ∀ (i : grid1.Coords) (v582 : BitVec 32) (v584 : BitVec 32) (k1_hw4 : k1_chk4 i v582 v584) (k1_t31 : Fin (k1_t31_loop v582 v584).trips) (k1_t33 : Fin (k1_t33_loop v582 v584 k1_t31).trips), ∀ a, (k1_off440 v582 v584 k1_t31 k1_t33) a + S1x16.size a ≤ S72x256.size a := fun i v582 v584 k1_hw4 k1_t31 k1_t33 => k1_hw4.1.2.2.2.2.2.2.2.2.2.2.2.2.2.2.2.2.2.2.2.2.2.2.2.2.2.2.2.2.2.2.1 k1_t31 k1_t33
theorem k1_off441_inb : ∀ (i : grid1.Coords) (v582 : BitVec 32) (v584 : BitVec 32) (k1_hw4 : k1_chk4 i v582 v584) (k1_t31 : Fin (k1_t31_loop v582 v584).trips) (k1_t33 : Fin (k1_t33_loop v582 v584 k1_t31).trips), ∀ a, (k1_off441 v582 v584 k1_t31 k1_t33) a + S1x16.size a ≤ S72x256.size a := fun i v582 v584 k1_hw4 k1_t31 k1_t33 => k1_hw4.1.2.2.2.2.2.2.2.2.2.2.2.2.2.2.2.2.2.2.2.2.2.2.2.2.2.2.2.2.2.2.2 k1_t31 k1_t33
theorem k1_off442_inb : ∀ (i : grid1.Coords) (v582 : BitVec 32) (v584 : BitVec 32) (k1_hw4 : k1_chk4 i v582 v584) (k1_t31 : Fin (k1_t31_loop v582 v584).trips) (k1_t33 : Fin (k1_t33_loop v582 v584 k1_t31).trips), ∀ a, (k1_off442 v582 v584 k1_t31 k1_t33) a + S1x16.size a ≤ S72x256.size a := fun i v582 v584 k1_hw4 k1_t31 k1_t33 => k1_hw4.2.1.1 k1_t31 k1_t33
theorem k1_off443_inb : ∀ (i : grid1.Coords) (v582 : BitVec 32) (v584 : BitVec 32) (k1_hw4 : k1_chk4 i v582 v584) (k1_t31 : Fin (k1_t31_loop v582 v584).trips) (k1_t33 : Fin (k1_t33_loop v582 v584 k1_t31).trips), ∀ a, (k1_off443 v582 v584 k1_t31 k1_t33) a + S1x16.size a ≤ S72x256.size a := fun i v582 v584 k1_hw4 k1_t31 k1_t33 => k1_hw4.2.1.2.1 k1_t31 k1_t33
theorem k1_off444_inb : ∀ (i : grid1.Coords) (v582 : BitVec 32) (v584 : BitVec 32) (k1_hw4 : k1_chk4 i v582 v584) (k1_t31 : Fin (k1_t31_loop v582 v584).trips) (k1_t33 : Fin (k1_t33_loop v582 v584 k1_t31).trips), ∀ a, (k1_off444 v582 v584 k1_t31 k1_t33) a + S1x16.size a ≤ S72x256.size a := fun i v582 v584 k1_hw4 k1_t31 k1_t33 => k1_hw4.2.1.2.2.1 k1_t31 k1_t33
theorem k1_off445_inb : ∀ (i : grid1.Coords) (v582 : BitVec 32) (v584 : BitVec 32) (k1_hw4 : k1_chk4 i v582 v584) (k1_t31 : Fin (k1_t31_loop v582 v584).trips) (k1_t33 : Fin (k1_t33_loop v582 v584 k1_t31).trips), ∀ a, (k1_off445 v582 v584 k1_t31 k1_t33) a + S1x16.size a ≤ S72x256.size a := fun i v582 v584 k1_hw4 k1_t31 k1_t33 => k1_hw4.2.1.2.2.2.1 k1_t31 k1_t33
theorem k1_off446_inb : ∀ (i : grid1.Coords) (v582 : BitVec 32) (v584 : BitVec 32) (k1_hw4 : k1_chk4 i v582 v584) (k1_t31 : Fin (k1_t31_loop v582 v584).trips) (k1_t33 : Fin (k1_t33_loop v582 v584 k1_t31).trips), ∀ a, (k1_off446 v582 v584 k1_t31 k1_t33) a + S1x16.size a ≤ S72x256.size a := fun i v582 v584 k1_hw4 k1_t31 k1_t33 => k1_hw4.2.1.2.2.2.2.1 k1_t31 k1_t33
theorem k1_off447_inb : ∀ (i : grid1.Coords) (v582 : BitVec 32) (v584 : BitVec 32) (k1_hw4 : k1_chk4 i v582 v584) (k1_t31 : Fin (k1_t31_loop v582 v584).trips) (k1_t33 : Fin (k1_t33_loop v582 v584 k1_t31).trips), ∀ a, (k1_off447 v582 v584 k1_t31 k1_t33) a + S1x16.size a ≤ S72x256.size a := fun i v582 v584 k1_hw4 k1_t31 k1_t33 => k1_hw4.2.1.2.2.2.2.2.1 k1_t31 k1_t33
theorem k1_off448_inb : ∀ (i : grid1.Coords) (v582 : BitVec 32) (v584 : BitVec 32) (k1_hw4 : k1_chk4 i v582 v584) (k1_t31 : Fin (k1_t31_loop v582 v584).trips), ∀ (k1_h31 : k1_cond31 v582 v584 k1_t31 = 1#1), ∀ a, (k1_off448 i v582 v584 k1_t31) a + S72x256.size a ≤ S100000x512.size a := fun i v582 v584 k1_hw4 k1_t31 k1_h31 => k1_hw4.2.1.2.2.2.2.2.2.1 k1_t31 k1_h31
theorem k1_off449_inb : ∀ (i : grid1.Coords) (v582 : BitVec 32) (v584 : BitVec 32) (k1_hw4 : k1_chk4 i v582 v584) (k1_t31 : Fin (k1_t31_loop v582 v584).trips), ∀ (k1_h31 : k1_cond31 v582 v584 k1_t31 = 1#1), ∀ (k1_h32 : k1_cond32 v582 v584 k1_t31 = 1#1), ∀ a, (k1_off449 i v582 v584 k1_t31) a + S72x256.size a ≤ S100000x512.size a := fun i v582 v584 k1_hw4 k1_t31 k1_h31 k1_h32 => k1_hw4.2.1.2.2.2.2.2.2.2.1 k1_t31 k1_h31 k1_h32
theorem k1_t34_ok : ∀ (i : grid1.Coords) (v582 : BitVec 32) (v584 : BitVec 32) (k1_hw4 : k1_chk4 i v582 v584) (k1_t31 : Fin (k1_t31_loop v582 v584).trips), (k1_t34_loop v582 v584 k1_t31).OK := fun i v582 v584 k1_hw4 k1_t31 => k1_hw4.2.1.2.2.2.2.2.2.2.2.1 k1_t31
theorem k1_off450_inb : ∀ (i : grid1.Coords) (v582 : BitVec 32) (v584 : BitVec 32) (k1_hw4 : k1_chk4 i v582 v584) (k1_t31 : Fin (k1_t31_loop v582 v584).trips) (k1_t34 : Fin (k1_t34_loop v582 v584 k1_t31).trips), ∀ a, (k1_off450 v582 v584 k1_t31 k1_t34) a + S1x16.size a ≤ S72x256.size a := fun i v582 v584 k1_hw4 k1_t31 k1_t34 => k1_hw4.2.1.2.2.2.2.2.2.2.2.2.1 k1_t31 k1_t34
theorem k1_off451_inb : ∀ (i : grid1.Coords) (v582 : BitVec 32) (v584 : BitVec 32) (k1_hw4 : k1_chk4 i v582 v584) (k1_t31 : Fin (k1_t31_loop v582 v584).trips) (k1_t34 : Fin (k1_t34_loop v582 v584 k1_t31).trips), ∀ a, (k1_off451 v582 v584 k1_t31 k1_t34) a + S1x16.size a ≤ S72x256.size a := fun i v582 v584 k1_hw4 k1_t31 k1_t34 => k1_hw4.2.1.2.2.2.2.2.2.2.2.2.2.1 k1_t31 k1_t34
theorem k1_off452_inb : ∀ (i : grid1.Coords) (v582 : BitVec 32) (v584 : BitVec 32) (k1_hw4 : k1_chk4 i v582 v584) (k1_t31 : Fin (k1_t31_loop v582 v584).trips) (k1_t34 : Fin (k1_t34_loop v582 v584 k1_t31).trips), ∀ a, (k1_off452 v582 v584 k1_t31 k1_t34) a + S1x16.size a ≤ S72x256.size a := fun i v582 v584 k1_hw4 k1_t31 k1_t34 => k1_hw4.2.1.2.2.2.2.2.2.2.2.2.2.2.1 k1_t31 k1_t34
theorem k1_off453_inb : ∀ (i : grid1.Coords) (v582 : BitVec 32) (v584 : BitVec 32) (k1_hw4 : k1_chk4 i v582 v584) (k1_t31 : Fin (k1_t31_loop v582 v584).trips) (k1_t34 : Fin (k1_t34_loop v582 v584 k1_t31).trips), ∀ a, (k1_off453 v582 v584 k1_t31 k1_t34) a + S1x16.size a ≤ S72x256.size a := fun i v582 v584 k1_hw4 k1_t31 k1_t34 => k1_hw4.2.1.2.2.2.2.2.2.2.2.2.2.2.2.1 k1_t31 k1_t34
theorem k1_off454_inb : ∀ (i : grid1.Coords) (v582 : BitVec 32) (v584 : BitVec 32) (k1_hw4 : k1_chk4 i v582 v584) (k1_t31 : Fin (k1_t31_loop v582 v584).trips) (k1_t34 : Fin (k1_t34_loop v582 v584 k1_t31).trips), ∀ a, (k1_off454 v582 v584 k1_t31 k1_t34) a + S1x16.size a ≤ S72x256.size a := fun i v582 v584 k1_hw4 k1_t31 k1_t34 => k1_hw4.2.1.2.2.2.2.2.2.2.2.2.2.2.2.2.1 k1_t31 k1_t34
theorem k1_off455_inb : ∀ (i : grid1.Coords) (v582 : BitVec 32) (v584 : BitVec 32) (k1_hw4 : k1_chk4 i v582 v584) (k1_t31 : Fin (k1_t31_loop v582 v584).trips) (k1_t34 : Fin (k1_t34_loop v582 v584 k1_t31).trips), ∀ a, (k1_off455 v582 v584 k1_t31 k1_t34) a + S1x16.size a ≤ S72x256.size a := fun i v582 v584 k1_hw4 k1_t31 k1_t34 => k1_hw4.2.1.2.2.2.2.2.2.2.2.2.2.2.2.2.2.1 k1_t31 k1_t34
theorem k1_off456_inb : ∀ (i : grid1.Coords) (v582 : BitVec 32) (v584 : BitVec 32) (k1_hw4 : k1_chk4 i v582 v584) (k1_t31 : Fin (k1_t31_loop v582 v584).trips) (k1_t34 : Fin (k1_t34_loop v582 v584 k1_t31).trips), ∀ a, (k1_off456 v582 v584 k1_t31 k1_t34) a + S1x16.size a ≤ S72x256.size a := fun i v582 v584 k1_hw4 k1_t31 k1_t34 => k1_hw4.2.1.2.2.2.2.2.2.2.2.2.2.2.2.2.2.2.1 k1_t31 k1_t34
theorem k1_off457_inb : ∀ (i : grid1.Coords) (v582 : BitVec 32) (v584 : BitVec 32) (k1_hw4 : k1_chk4 i v582 v584) (k1_t31 : Fin (k1_t31_loop v582 v584).trips) (k1_t34 : Fin (k1_t34_loop v582 v584 k1_t31).trips), ∀ a, (k1_off457 v582 v584 k1_t31 k1_t34) a + S1x16.size a ≤ S72x256.size a := fun i v582 v584 k1_hw4 k1_t31 k1_t34 => k1_hw4.2.1.2.2.2.2.2.2.2.2.2.2.2.2.2.2.2.2.1 k1_t31 k1_t34
theorem k1_off458_inb : ∀ (i : grid1.Coords) (v582 : BitVec 32) (v584 : BitVec 32) (k1_hw4 : k1_chk4 i v582 v584) (k1_t31 : Fin (k1_t31_loop v582 v584).trips) (k1_t34 : Fin (k1_t34_loop v582 v584 k1_t31).trips), ∀ a, (k1_off458 v582 v584 k1_t31 k1_t34) a + S1x16.size a ≤ S72x256.size a := fun i v582 v584 k1_hw4 k1_t31 k1_t34 => k1_hw4.2.1.2.2.2.2.2.2.2.2.2.2.2.2.2.2.2.2.2.1 k1_t31 k1_t34
theorem k1_off459_inb : ∀ (i : grid1.Coords) (v582 : BitVec 32) (v584 : BitVec 32) (k1_hw4 : k1_chk4 i v582 v584) (k1_t31 : Fin (k1_t31_loop v582 v584).trips) (k1_t34 : Fin (k1_t34_loop v582 v584 k1_t31).trips), ∀ a, (k1_off459 v582 v584 k1_t31 k1_t34) a + S1x16.size a ≤ S72x256.size a := fun i v582 v584 k1_hw4 k1_t31 k1_t34 => k1_hw4.2.1.2.2.2.2.2.2.2.2.2.2.2.2.2.2.2.2.2.2.1 k1_t31 k1_t34
theorem k1_off460_inb : ∀ (i : grid1.Coords) (v582 : BitVec 32) (v584 : BitVec 32) (k1_hw4 : k1_chk4 i v582 v584) (k1_t31 : Fin (k1_t31_loop v582 v584).trips) (k1_t34 : Fin (k1_t34_loop v582 v584 k1_t31).trips), ∀ a, (k1_off460 v582 v584 k1_t31 k1_t34) a + S1x16.size a ≤ S72x256.size a := fun i v582 v584 k1_hw4 k1_t31 k1_t34 => k1_hw4.2.1.2.2.2.2.2.2.2.2.2.2.2.2.2.2.2.2.2.2.2.1 k1_t31 k1_t34
theorem k1_off461_inb : ∀ (i : grid1.Coords) (v582 : BitVec 32) (v584 : BitVec 32) (k1_hw4 : k1_chk4 i v582 v584) (k1_t31 : Fin (k1_t31_loop v582 v584).trips) (k1_t34 : Fin (k1_t34_loop v582 v584 k1_t31).trips), ∀ a, (k1_off461 v582 v584 k1_t31 k1_t34) a + S1x16.size a ≤ S72x256.size a := fun i v582 v584 k1_hw4 k1_t31 k1_t34 => k1_hw4.2.1.2.2.2.2.2.2.2.2.2.2.2.2.2.2.2.2.2.2.2.2.1 k1_t31 k1_t34
theorem k1_off462_inb : ∀ (i : grid1.Coords) (v582 : BitVec 32) (v584 : BitVec 32) (k1_hw4 : k1_chk4 i v582 v584) (k1_t31 : Fin (k1_t31_loop v582 v584).trips) (k1_t34 : Fin (k1_t34_loop v582 v584 k1_t31).trips), ∀ a, (k1_off462 v582 v584 k1_t31 k1_t34) a + S1x16.size a ≤ S72x256.size a := fun i v582 v584 k1_hw4 k1_t31 k1_t34 => k1_hw4.2.1.2.2.2.2.2.2.2.2.2.2.2.2.2.2.2.2.2.2.2.2.2.1 k1_t31 k1_t34
theorem k1_off463_inb : ∀ (i : grid1.Coords) (v582 : BitVec 32) (v584 : BitVec 32) (k1_hw4 : k1_chk4 i v582 v584) (k1_t31 : Fin (k1_t31_loop v582 v584).trips) (k1_t34 : Fin (k1_t34_loop v582 v584 k1_t31).trips), ∀ a, (k1_off463 v582 v584 k1_t31 k1_t34) a + S1x16.size a ≤ S72x256.size a := fun i v582 v584 k1_hw4 k1_t31 k1_t34 => k1_hw4.2.1.2.2.2.2.2.2.2.2.2.2.2.2.2.2.2.2.2.2.2.2.2.2.1 k1_t31 k1_t34
theorem k1_off464_inb : ∀ (i : grid1.Coords) (v582 : BitVec 32) (v584 : BitVec 32) (k1_hw4 : k1_chk4 i v582 v584) (k1_t31 : Fin (k1_t31_loop v582 v584).trips) (k1_t34 : Fin (k1_t34_loop v582 v584 k1_t31).trips), ∀ a, (k1_off464 v582 v584 k1_t31 k1_t34) a + S1x16.size a ≤ S72x256.size a := fun i v582 v584 k1_hw4 k1_t31 k1_t34 => k1_hw4.2.1.2.2.2.2.2.2.2.2.2.2.2.2.2.2.2.2.2.2.2.2.2.2.2.1 k1_t31 k1_t34
theorem k1_off465_inb : ∀ (i : grid1.Coords) (v582 : BitVec 32) (v584 : BitVec 32) (k1_hw4 : k1_chk4 i v582 v584) (k1_t31 : Fin (k1_t31_loop v582 v584).trips) (k1_t34 : Fin (k1_t34_loop v582 v584 k1_t31).trips), ∀ a, (k1_off465 v582 v584 k1_t31 k1_t34) a + S1x16.size a ≤ S72x256.size a := fun i v582 v584 k1_hw4 k1_t31 k1_t34 => k1_hw4.2.1.2.2.2.2.2.2.2.2.2.2.2.2.2.2.2.2.2.2.2.2.2.2.2.2.1 k1_t31 k1_t34
theorem k1_t35_ok : ∀ (i : grid1.Coords) (v582 : BitVec 32) (v584 : BitVec 32) (k1_hw4 : k1_chk4 i v582 v584) (k1_t31 : Fin (k1_t31_loop v582 v584).trips), (k1_t35_loop v582 v584 k1_t31).OK := fun i v582 v584 k1_hw4 k1_t31 => k1_hw4.2.1.2.2.2.2.2.2.2.2.2.2.2.2.2.2.2.2.2.2.2.2.2.2.2.2.2.1 k1_t31
theorem k1_off466_inb : ∀ (i : grid1.Coords) (v582 : BitVec 32) (v584 : BitVec 32) (k1_hw4 : k1_chk4 i v582 v584) (k1_t31 : Fin (k1_t31_loop v582 v584).trips) (k1_t35 : Fin (k1_t35_loop v582 v584 k1_t31).trips), ∀ a, (k1_off466 v582 v584 k1_t31 k1_t35) a + S1x16.size a ≤ S72x256.size a := fun i v582 v584 k1_hw4 k1_t31 k1_t35 => k1_hw4.2.1.2.2.2.2.2.2.2.2.2.2.2.2.2.2.2.2.2.2.2.2.2.2.2.2.2.2.1 k1_t31 k1_t35
theorem k1_off467_inb : ∀ (i : grid1.Coords) (v582 : BitVec 32) (v584 : BitVec 32) (k1_hw4 : k1_chk4 i v582 v584) (k1_t31 : Fin (k1_t31_loop v582 v584).trips) (k1_t35 : Fin (k1_t35_loop v582 v584 k1_t31).trips), ∀ a, (k1_off467 v582 v584 k1_t31 k1_t35) a + S1x16.size a ≤ S72x256.size a := fun i v582 v584 k1_hw4 k1_t31 k1_t35 => k1_hw4.2.1.2.2.2.2.2.2.2.2.2.2.2.2.2.2.2.2.2.2.2.2.2.2.2.2.2.2.2.1 k1_t31 k1_t35
theorem k1_off468_inb : ∀ (i : grid1.Coords) (v582 : BitVec 32) (v584 : BitVec 32) (k1_hw4 : k1_chk4 i v582 v584) (k1_t31 : Fin (k1_t31_loop v582 v584).trips) (k1_t35 : Fin (k1_t35_loop v582 v584 k1_t31).trips), ∀ a, (k1_off468 v582 v584 k1_t31 k1_t35) a + S1x16.size a ≤ S72x256.size a := fun i v582 v584 k1_hw4 k1_t31 k1_t35 => k1_hw4.2.1.2.2.2.2.2.2.2.2.2.2.2.2.2.2.2.2.2.2.2.2.2.2.2.2.2.2.2.2.1 k1_t31 k1_t35
theorem k1_off469_inb : ∀ (i : grid1.Coords) (v582 : BitVec 32) (v584 : BitVec 32) (k1_hw4 : k1_chk4 i v582 v584) (k1_t31 : Fin (k1_t31_loop v582 v584).trips) (k1_t35 : Fin (k1_t35_loop v582 v584 k1_t31).trips), ∀ a, (k1_off469 v582 v584 k1_t31 k1_t35) a + S1x16.size a ≤ S72x256.size a := fun i v582 v584 k1_hw4 k1_t31 k1_t35 => k1_hw4.2.1.2.2.2.2.2.2.2.2.2.2.2.2.2.2.2.2.2.2.2.2.2.2.2.2.2.2.2.2.2.1 k1_t31 k1_t35
theorem k1_off470_inb : ∀ (i : grid1.Coords) (v582 : BitVec 32) (v584 : BitVec 32) (k1_hw4 : k1_chk4 i v582 v584) (k1_t31 : Fin (k1_t31_loop v582 v584).trips) (k1_t35 : Fin (k1_t35_loop v582 v584 k1_t31).trips), ∀ a, (k1_off470 v582 v584 k1_t31 k1_t35) a + S1x16.size a ≤ S72x256.size a := fun i v582 v584 k1_hw4 k1_t31 k1_t35 => k1_hw4.2.1.2.2.2.2.2.2.2.2.2.2.2.2.2.2.2.2.2.2.2.2.2.2.2.2.2.2.2.2.2.2.1 k1_t31 k1_t35
theorem k1_off471_inb : ∀ (i : grid1.Coords) (v582 : BitVec 32) (v584 : BitVec 32) (k1_hw4 : k1_chk4 i v582 v584) (k1_t31 : Fin (k1_t31_loop v582 v584).trips) (k1_t35 : Fin (k1_t35_loop v582 v584 k1_t31).trips), ∀ a, (k1_off471 v582 v584 k1_t31 k1_t35) a + S1x16.size a ≤ S72x256.size a := fun i v582 v584 k1_hw4 k1_t31 k1_t35 => k1_hw4.2.1.2.2.2.2.2.2.2.2.2.2.2.2.2.2.2.2.2.2.2.2.2.2.2.2.2.2.2.2.2.2.2 k1_t31 k1_t35
theorem k1_off472_inb : ∀ (i : grid1.Coords) (v582 : BitVec 32) (v584 : BitVec 32) (k1_hw4 : k1_chk4 i v582 v584) (k1_t31 : Fin (k1_t31_loop v582 v584).trips) (k1_t35 : Fin (k1_t35_loop v582 v584 k1_t31).trips), ∀ a, (k1_off472 v582 v584 k1_t31 k1_t35) a + S1x16.size a ≤ S72x256.size a := fun i v582 v584 k1_hw4 k1_t31 k1_t35 => k1_hw4.2.2.1.1 k1_t31 k1_t35
theorem k1_off473_inb : ∀ (i : grid1.Coords) (v582 : BitVec 32) (v584 : BitVec 32) (k1_hw4 : k1_chk4 i v582 v584) (k1_t31 : Fin (k1_t31_loop v582 v584).trips) (k1_t35 : Fin (k1_t35_loop v582 v584 k1_t31).trips), ∀ a, (k1_off473 v582 v584 k1_t31 k1_t35) a + S1x16.size a ≤ S72x256.size a := fun i v582 v584 k1_hw4 k1_t31 k1_t35 => k1_hw4.2.2.1.2.1 k1_t31 k1_t35
theorem k1_off474_inb : ∀ (i : grid1.Coords) (v582 : BitVec 32) (v584 : BitVec 32) (k1_hw4 : k1_chk4 i v582 v584) (k1_t31 : Fin (k1_t31_loop v582 v584).trips) (k1_t35 : Fin (k1_t35_loop v582 v584 k1_t31).trips), ∀ a, (k1_off474 v582 v584 k1_t31 k1_t35) a + S1x16.size a ≤ S72x256.size a := fun i v582 v584 k1_hw4 k1_t31 k1_t35 => k1_hw4.2.2.1.2.2.1 k1_t31 k1_t35
theorem k1_off475_inb : ∀ (i : grid1.Coords) (v582 : BitVec 32) (v584 : BitVec 32) (k1_hw4 : k1_chk4 i v582 v584) (k1_t31 : Fin (k1_t31_loop v582 v584).trips) (k1_t35 : Fin (k1_t35_loop v582 v584 k1_t31).trips), ∀ a, (k1_off475 v582 v584 k1_t31 k1_t35) a + S1x16.size a ≤ S72x256.size a := fun i v582 v584 k1_hw4 k1_t31 k1_t35 => k1_hw4.2.2.1.2.2.2.1 k1_t31 k1_t35
theorem k1_off476_inb : ∀ (i : grid1.Coords) (v582 : BitVec 32) (v584 : BitVec 32) (k1_hw4 : k1_chk4 i v582 v584) (k1_t31 : Fin (k1_t31_loop v582 v584).trips) (k1_t35 : Fin (k1_t35_loop v582 v584 k1_t31).trips), ∀ a, (k1_off476 v582 v584 k1_t31 k1_t35) a + S1x16.size a ≤ S72x256.size a := fun i v582 v584 k1_hw4 k1_t31 k1_t35 => k1_hw4.2.2.1.2.2.2.2.1 k1_t31 k1_t35
theorem k1_off477_inb : ∀ (i : grid1.Coords) (v582 : BitVec 32) (v584 : BitVec 32) (k1_hw4 : k1_chk4 i v582 v584) (k1_t31 : Fin (k1_t31_loop v582 v584).trips) (k1_t35 : Fin (k1_t35_loop v582 v584 k1_t31).trips), ∀ a, (k1_off477 v582 v584 k1_t31 k1_t35) a + S1x16.size a ≤ S72x256.size a := fun i v582 v584 k1_hw4 k1_t31 k1_t35 => k1_hw4.2.2.1.2.2.2.2.2.1 k1_t31 k1_t35
theorem k1_off478_inb : ∀ (i : grid1.Coords) (v582 : BitVec 32) (v584 : BitVec 32) (k1_hw4 : k1_chk4 i v582 v584) (k1_t31 : Fin (k1_t31_loop v582 v584).trips) (k1_t35 : Fin (k1_t35_loop v582 v584 k1_t31).trips), ∀ a, (k1_off478 v582 v584 k1_t31 k1_t35) a + S1x16.size a ≤ S72x256.size a := fun i v582 v584 k1_hw4 k1_t31 k1_t35 => k1_hw4.2.2.1.2.2.2.2.2.2.1 k1_t31 k1_t35
theorem k1_off479_inb : ∀ (i : grid1.Coords) (v582 : BitVec 32) (v584 : BitVec 32) (k1_hw4 : k1_chk4 i v582 v584) (k1_t31 : Fin (k1_t31_loop v582 v584).trips) (k1_t35 : Fin (k1_t35_loop v582 v584 k1_t31).trips), ∀ a, (k1_off479 v582 v584 k1_t31 k1_t35) a + S1x16.size a ≤ S72x256.size a := fun i v582 v584 k1_hw4 k1_t31 k1_t35 => k1_hw4.2.2.1.2.2.2.2.2.2.2.1 k1_t31 k1_t35
theorem k1_off480_inb : ∀ (i : grid1.Coords) (v582 : BitVec 32) (v584 : BitVec 32) (k1_hw4 : k1_chk4 i v582 v584) (k1_t31 : Fin (k1_t31_loop v582 v584).trips) (k1_t35 : Fin (k1_t35_loop v582 v584 k1_t31).trips), ∀ a, (k1_off480 v582 v584 k1_t31 k1_t35) a + S1x16.size a ≤ S72x256.size a := fun i v582 v584 k1_hw4 k1_t31 k1_t35 => k1_hw4.2.2.1.2.2.2.2.2.2.2.2.1 k1_t31 k1_t35
theorem k1_off481_inb : ∀ (i : grid1.Coords) (v582 : BitVec 32) (v584 : BitVec 32) (k1_hw4 : k1_chk4 i v582 v584) (k1_t31 : Fin (k1_t31_loop v582 v584).trips) (k1_t35 : Fin (k1_t35_loop v582 v584 k1_t31).trips), ∀ a, (k1_off481 v582 v584 k1_t31 k1_t35) a + S1x16.size a ≤ S72x256.size a := fun i v582 v584 k1_hw4 k1_t31 k1_t35 => k1_hw4.2.2.1.2.2.2.2.2.2.2.2.2.1 k1_t31 k1_t35
theorem k1_t36_ok : ∀ (i : grid1.Coords) (v582 : BitVec 32) (v584 : BitVec 32) (k1_hw4 : k1_chk4 i v582 v584), (k1_t36_loop v582 v584).OK := fun i v582 v584 k1_hw4 => k1_hw4.2.2.1.2.2.2.2.2.2.2.2.2.2.1
theorem k1_off482_inb : ∀ (i : grid1.Coords) (v582 : BitVec 32) (v584 : BitVec 32) (k1_hw4 : k1_chk4 i v582 v584) (k1_t36 : Fin (k1_t36_loop v582 v584).trips), ∀ (k1_h33 : k1_cond33 v582 v584 k1_t36 = 1#1), ∀ a, (k1_off482 i v582 v584 k1_t36) a + S72x256.size a ≤ S100000x512.size a := fun i v582 v584 k1_hw4 k1_t36 k1_h33 => k1_hw4.2.2.1.2.2.2.2.2.2.2.2.2.2.2.1 k1_t36 k1_h33
theorem k1_off483_inb : ∀ (i : grid1.Coords) (v582 : BitVec 32) (v584 : BitVec 32) (k1_hw4 : k1_chk4 i v582 v584) (k1_t36 : Fin (k1_t36_loop v582 v584).trips), ∀ (k1_h33 : k1_cond33 v582 v584 k1_t36 = 1#1), ∀ (k1_h34 : k1_cond34 v582 v584 k1_t36 = 1#1), ∀ a, (k1_off483 i v582 v584 k1_t36) a + S72x256.size a ≤ S100000x512.size a := fun i v582 v584 k1_hw4 k1_t36 k1_h33 k1_h34 => k1_hw4.2.2.1.2.2.2.2.2.2.2.2.2.2.2.2.1 k1_t36 k1_h33 k1_h34
theorem k1_t37_ok : ∀ (i : grid1.Coords) (v582 : BitVec 32) (v584 : BitVec 32) (k1_hw4 : k1_chk4 i v582 v584) (k1_t36 : Fin (k1_t36_loop v582 v584).trips), (k1_t37_loop v582 v584 k1_t36).OK := fun i v582 v584 k1_hw4 k1_t36 => k1_hw4.2.2.1.2.2.2.2.2.2.2.2.2.2.2.2.2.1 k1_t36
theorem k1_off484_inb : ∀ (i : grid1.Coords) (v582 : BitVec 32) (v584 : BitVec 32) (k1_hw4 : k1_chk4 i v582 v584) (k1_t36 : Fin (k1_t36_loop v582 v584).trips) (k1_t37 : Fin (k1_t37_loop v582 v584 k1_t36).trips), ∀ a, (k1_off484 v582 v584 k1_t36 k1_t37) a + S1x16.size a ≤ S72x256.size a := fun i v582 v584 k1_hw4 k1_t36 k1_t37 => k1_hw4.2.2.1.2.2.2.2.2.2.2.2.2.2.2.2.2.2.1 k1_t36 k1_t37
theorem k1_off485_inb : ∀ (i : grid1.Coords) (v582 : BitVec 32) (v584 : BitVec 32) (k1_hw4 : k1_chk4 i v582 v584) (k1_t36 : Fin (k1_t36_loop v582 v584).trips) (k1_t37 : Fin (k1_t37_loop v582 v584 k1_t36).trips), ∀ a, (k1_off485 v582 v584 k1_t36 k1_t37) a + S1x16.size a ≤ S72x256.size a := fun i v582 v584 k1_hw4 k1_t36 k1_t37 => k1_hw4.2.2.1.2.2.2.2.2.2.2.2.2.2.2.2.2.2.2.1 k1_t36 k1_t37
theorem k1_off486_inb : ∀ (i : grid1.Coords) (v582 : BitVec 32) (v584 : BitVec 32) (k1_hw4 : k1_chk4 i v582 v584) (k1_t36 : Fin (k1_t36_loop v582 v584).trips) (k1_t37 : Fin (k1_t37_loop v582 v584 k1_t36).trips), ∀ a, (k1_off486 v582 v584 k1_t36 k1_t37) a + S1x16.size a ≤ S72x256.size a := fun i v582 v584 k1_hw4 k1_t36 k1_t37 => k1_hw4.2.2.1.2.2.2.2.2.2.2.2.2.2.2.2.2.2.2.2.1 k1_t36 k1_t37
theorem k1_off487_inb : ∀ (i : grid1.Coords) (v582 : BitVec 32) (v584 : BitVec 32) (k1_hw4 : k1_chk4 i v582 v584) (k1_t36 : Fin (k1_t36_loop v582 v584).trips) (k1_t37 : Fin (k1_t37_loop v582 v584 k1_t36).trips), ∀ a, (k1_off487 v582 v584 k1_t36 k1_t37) a + S1x16.size a ≤ S72x256.size a := fun i v582 v584 k1_hw4 k1_t36 k1_t37 => k1_hw4.2.2.1.2.2.2.2.2.2.2.2.2.2.2.2.2.2.2.2.2.1 k1_t36 k1_t37
theorem k1_off488_inb : ∀ (i : grid1.Coords) (v582 : BitVec 32) (v584 : BitVec 32) (k1_hw4 : k1_chk4 i v582 v584) (k1_t36 : Fin (k1_t36_loop v582 v584).trips) (k1_t37 : Fin (k1_t37_loop v582 v584 k1_t36).trips), ∀ a, (k1_off488 v582 v584 k1_t36 k1_t37) a + S1x16.size a ≤ S72x256.size a := fun i v582 v584 k1_hw4 k1_t36 k1_t37 => k1_hw4.2.2.1.2.2.2.2.2.2.2.2.2.2.2.2.2.2.2.2.2.2.1 k1_t36 k1_t37
theorem k1_off489_inb : ∀ (i : grid1.Coords) (v582 : BitVec 32) (v584 : BitVec 32) (k1_hw4 : k1_chk4 i v582 v584) (k1_t36 : Fin (k1_t36_loop v582 v584).trips) (k1_t37 : Fin (k1_t37_loop v582 v584 k1_t36).trips), ∀ a, (k1_off489 v582 v584 k1_t36 k1_t37) a + S1x16.size a ≤ S72x256.size a := fun i v582 v584 k1_hw4 k1_t36 k1_t37 => k1_hw4.2.2.1.2.2.2.2.2.2.2.2.2.2.2.2.2.2.2.2.2.2.2.1 k1_t36 k1_t37
theorem k1_off490_inb : ∀ (i : grid1.Coords) (v582 : BitVec 32) (v584 : BitVec 32) (k1_hw4 : k1_chk4 i v582 v584) (k1_t36 : Fin (k1_t36_loop v582 v584).trips) (k1_t37 : Fin (k1_t37_loop v582 v584 k1_t36).trips), ∀ a, (k1_off490 v582 v584 k1_t36 k1_t37) a + S1x16.size a ≤ S72x256.size a := fun i v582 v584 k1_hw4 k1_t36 k1_t37 => k1_hw4.2.2.1.2.2.2.2.2.2.2.2.2.2.2.2.2.2.2.2.2.2.2.2.1 k1_t36 k1_t37
theorem k1_off491_inb : ∀ (i : grid1.Coords) (v582 : BitVec 32) (v584 : BitVec 32) (k1_hw4 : k1_chk4 i v582 v584) (k1_t36 : Fin (k1_t36_loop v582 v584).trips) (k1_t37 : Fin (k1_t37_loop v582 v584 k1_t36).trips), ∀ a, (k1_off491 v582 v584 k1_t36 k1_t37) a + S1x16.size a ≤ S72x256.size a := fun i v582 v584 k1_hw4 k1_t36 k1_t37 => k1_hw4.2.2.1.2.2.2.2.2.2.2.2.2.2.2.2.2.2.2.2.2.2.2.2.2.1 k1_t36 k1_t37
theorem k1_off492_inb : ∀ (i : grid1.Coords) (v582 : BitVec 32) (v584 : BitVec 32) (k1_hw4 : k1_chk4 i v582 v584) (k1_t36 : Fin (k1_t36_loop v582 v584).trips) (k1_t37 : Fin (k1_t37_loop v582 v584 k1_t36).trips), ∀ a, (k1_off492 v582 v584 k1_t36 k1_t37) a + S1x16.size a ≤ S72x256.size a := fun i v582 v584 k1_hw4 k1_t36 k1_t37 => k1_hw4.2.2.1.2.2.2.2.2.2.2.2.2.2.2.2.2.2.2.2.2.2.2.2.2.2.1 k1_t36 k1_t37
theorem k1_off493_inb : ∀ (i : grid1.Coords) (v582 : BitVec 32) (v584 : BitVec 32) (k1_hw4 : k1_chk4 i v582 v584) (k1_t36 : Fin (k1_t36_loop v582 v584).trips) (k1_t37 : Fin (k1_t37_loop v582 v584 k1_t36).trips), ∀ a, (k1_off493 v582 v584 k1_t36 k1_t37) a + S1x16.size a ≤ S72x256.size a := fun i v582 v584 k1_hw4 k1_t36 k1_t37 => k1_hw4.2.2.1.2.2.2.2.2.2.2.2.2.2.2.2.2.2.2.2.2.2.2.2.2.2.2.1 k1_t36 k1_t37
theorem k1_off494_inb : ∀ (i : grid1.Coords) (v582 : BitVec 32) (v584 : BitVec 32) (k1_hw4 : k1_chk4 i v582 v584) (k1_t36 : Fin (k1_t36_loop v582 v584).trips) (k1_t37 : Fin (k1_t37_loop v582 v584 k1_t36).trips), ∀ a, (k1_off494 v582 v584 k1_t36 k1_t37) a + S1x16.size a ≤ S72x256.size a := fun i v582 v584 k1_hw4 k1_t36 k1_t37 => k1_hw4.2.2.1.2.2.2.2.2.2.2.2.2.2.2.2.2.2.2.2.2.2.2.2.2.2.2.2.1 k1_t36 k1_t37
theorem k1_off495_inb : ∀ (i : grid1.Coords) (v582 : BitVec 32) (v584 : BitVec 32) (k1_hw4 : k1_chk4 i v582 v584) (k1_t36 : Fin (k1_t36_loop v582 v584).trips) (k1_t37 : Fin (k1_t37_loop v582 v584 k1_t36).trips), ∀ a, (k1_off495 v582 v584 k1_t36 k1_t37) a + S1x16.size a ≤ S72x256.size a := fun i v582 v584 k1_hw4 k1_t36 k1_t37 => k1_hw4.2.2.1.2.2.2.2.2.2.2.2.2.2.2.2.2.2.2.2.2.2.2.2.2.2.2.2.2.1 k1_t36 k1_t37
theorem k1_off496_inb : ∀ (i : grid1.Coords) (v582 : BitVec 32) (v584 : BitVec 32) (k1_hw4 : k1_chk4 i v582 v584) (k1_t36 : Fin (k1_t36_loop v582 v584).trips) (k1_t37 : Fin (k1_t37_loop v582 v584 k1_t36).trips), ∀ a, (k1_off496 v582 v584 k1_t36 k1_t37) a + S1x16.size a ≤ S72x256.size a := fun i v582 v584 k1_hw4 k1_t36 k1_t37 => k1_hw4.2.2.1.2.2.2.2.2.2.2.2.2.2.2.2.2.2.2.2.2.2.2.2.2.2.2.2.2.2.1 k1_t36 k1_t37
theorem k1_off497_inb : ∀ (i : grid1.Coords) (v582 : BitVec 32) (v584 : BitVec 32) (k1_hw4 : k1_chk4 i v582 v584) (k1_t36 : Fin (k1_t36_loop v582 v584).trips) (k1_t37 : Fin (k1_t37_loop v582 v584 k1_t36).trips), ∀ a, (k1_off497 v582 v584 k1_t36 k1_t37) a + S1x16.size a ≤ S72x256.size a := fun i v582 v584 k1_hw4 k1_t36 k1_t37 => k1_hw4.2.2.1.2.2.2.2.2.2.2.2.2.2.2.2.2.2.2.2.2.2.2.2.2.2.2.2.2.2.2.1 k1_t36 k1_t37
theorem k1_off498_inb : ∀ (i : grid1.Coords) (v582 : BitVec 32) (v584 : BitVec 32) (k1_hw4 : k1_chk4 i v582 v584) (k1_t36 : Fin (k1_t36_loop v582 v584).trips) (k1_t37 : Fin (k1_t37_loop v582 v584 k1_t36).trips), ∀ a, (k1_off498 v582 v584 k1_t36 k1_t37) a + S1x16.size a ≤ S72x256.size a := fun i v582 v584 k1_hw4 k1_t36 k1_t37 => k1_hw4.2.2.1.2.2.2.2.2.2.2.2.2.2.2.2.2.2.2.2.2.2.2.2.2.2.2.2.2.2.2.2.1 k1_t36 k1_t37
theorem k1_off499_inb : ∀ (i : grid1.Coords) (v582 : BitVec 32) (v584 : BitVec 32) (k1_hw4 : k1_chk4 i v582 v584) (k1_t36 : Fin (k1_t36_loop v582 v584).trips) (k1_t37 : Fin (k1_t37_loop v582 v584 k1_t36).trips), ∀ a, (k1_off499 v582 v584 k1_t36 k1_t37) a + S1x16.size a ≤ S72x256.size a := fun i v582 v584 k1_hw4 k1_t36 k1_t37 => k1_hw4.2.2.1.2.2.2.2.2.2.2.2.2.2.2.2.2.2.2.2.2.2.2.2.2.2.2.2.2.2.2.2.2.1 k1_t36 k1_t37
theorem k1_t38_ok : ∀ (i : grid1.Coords) (v582 : BitVec 32) (v584 : BitVec 32) (k1_hw4 : k1_chk4 i v582 v584) (k1_t36 : Fin (k1_t36_loop v582 v584).trips), (k1_t38_loop v582 v584 k1_t36).OK := fun i v582 v584 k1_hw4 k1_t36 => k1_hw4.2.2.1.2.2.2.2.2.2.2.2.2.2.2.2.2.2.2.2.2.2.2.2.2.2.2.2.2.2.2.2.2.2.1 k1_t36
theorem k1_off500_inb : ∀ (i : grid1.Coords) (v582 : BitVec 32) (v584 : BitVec 32) (k1_hw4 : k1_chk4 i v582 v584) (k1_t36 : Fin (k1_t36_loop v582 v584).trips) (k1_t38 : Fin (k1_t38_loop v582 v584 k1_t36).trips), ∀ a, (k1_off500 v582 v584 k1_t36 k1_t38) a + S1x16.size a ≤ S72x256.size a := fun i v582 v584 k1_hw4 k1_t36 k1_t38 => k1_hw4.2.2.1.2.2.2.2.2.2.2.2.2.2.2.2.2.2.2.2.2.2.2.2.2.2.2.2.2.2.2.2.2.2.2 k1_t36 k1_t38
theorem k1_off501_inb : ∀ (i : grid1.Coords) (v582 : BitVec 32) (v584 : BitVec 32) (k1_hw4 : k1_chk4 i v582 v584) (k1_t36 : Fin (k1_t36_loop v582 v584).trips) (k1_t38 : Fin (k1_t38_loop v582 v584 k1_t36).trips), ∀ a, (k1_off501 v582 v584 k1_t36 k1_t38) a + S1x16.size a ≤ S72x256.size a := fun i v582 v584 k1_hw4 k1_t36 k1_t38 => k1_hw4.2.2.2.1.1 k1_t36 k1_t38
theorem k1_off502_inb : ∀ (i : grid1.Coords) (v582 : BitVec 32) (v584 : BitVec 32) (k1_hw4 : k1_chk4 i v582 v584) (k1_t36 : Fin (k1_t36_loop v582 v584).trips) (k1_t38 : Fin (k1_t38_loop v582 v584 k1_t36).trips), ∀ a, (k1_off502 v582 v584 k1_t36 k1_t38) a + S1x16.size a ≤ S72x256.size a := fun i v582 v584 k1_hw4 k1_t36 k1_t38 => k1_hw4.2.2.2.1.2.1 k1_t36 k1_t38
theorem k1_off503_inb : ∀ (i : grid1.Coords) (v582 : BitVec 32) (v584 : BitVec 32) (k1_hw4 : k1_chk4 i v582 v584) (k1_t36 : Fin (k1_t36_loop v582 v584).trips) (k1_t38 : Fin (k1_t38_loop v582 v584 k1_t36).trips), ∀ a, (k1_off503 v582 v584 k1_t36 k1_t38) a + S1x16.size a ≤ S72x256.size a := fun i v582 v584 k1_hw4 k1_t36 k1_t38 => k1_hw4.2.2.2.1.2.2.1 k1_t36 k1_t38
theorem k1_off504_inb : ∀ (i : grid1.Coords) (v582 : BitVec 32) (v584 : BitVec 32) (k1_hw4 : k1_chk4 i v582 v584) (k1_t36 : Fin (k1_t36_loop v582 v584).trips) (k1_t38 : Fin (k1_t38_loop v582 v584 k1_t36).trips), ∀ a, (k1_off504 v582 v584 k1_t36 k1_t38) a + S1x16.size a ≤ S72x256.size a := fun i v582 v584 k1_hw4 k1_t36 k1_t38 => k1_hw4.2.2.2.1.2.2.2.1 k1_t36 k1_t38
theorem k1_off505_inb : ∀ (i : grid1.Coords) (v582 : BitVec 32) (v584 : BitVec 32) (k1_hw4 : k1_chk4 i v582 v584) (k1_t36 : Fin (k1_t36_loop v582 v584).trips) (k1_t38 : Fin (k1_t38_loop v582 v584 k1_t36).trips), ∀ a, (k1_off505 v582 v584 k1_t36 k1_t38) a + S1x16.size a ≤ S72x256.size a := fun i v582 v584 k1_hw4 k1_t36 k1_t38 => k1_hw4.2.2.2.1.2.2.2.2.1 k1_t36 k1_t38
theorem k1_off506_inb : ∀ (i : grid1.Coords) (v582 : BitVec 32) (v584 : BitVec 32) (k1_hw4 : k1_chk4 i v582 v584) (k1_t36 : Fin (k1_t36_loop v582 v584).trips) (k1_t38 : Fin (k1_t38_loop v582 v584 k1_t36).trips), ∀ a, (k1_off506 v582 v584 k1_t36 k1_t38) a + S1x16.size a ≤ S72x256.size a := fun i v582 v584 k1_hw4 k1_t36 k1_t38 => k1_hw4.2.2.2.1.2.2.2.2.2.1 k1_t36 k1_t38
theorem k1_off507_inb : ∀ (i : grid1.Coords) (v582 : BitVec 32) (v584 : BitVec 32) (k1_hw4 : k1_chk4 i v582 v584) (k1_t36 : Fin (k1_t36_loop v582 v584).trips) (k1_t38 : Fin (k1_t38_loop v582 v584 k1_t36).trips), ∀ a, (k1_off507 v582 v584 k1_t36 k1_t38) a + S1x16.size a ≤ S72x256.size a := fun i v582 v584 k1_hw4 k1_t36 k1_t38 => k1_hw4.2.2.2.1.2.2.2.2.2.2.1 k1_t36 k1_t38
theorem k1_off508_inb : ∀ (i : grid1.Coords) (v582 : BitVec 32) (v584 : BitVec 32) (k1_hw4 : k1_chk4 i v582 v584) (k1_t36 : Fin (k1_t36_loop v582 v584).trips) (k1_t38 : Fin (k1_t38_loop v582 v584 k1_t36).trips), ∀ a, (k1_off508 v582 v584 k1_t36 k1_t38) a + S1x16.size a ≤ S72x256.size a := fun i v582 v584 k1_hw4 k1_t36 k1_t38 => k1_hw4.2.2.2.1.2.2.2.2.2.2.2.1 k1_t36 k1_t38
theorem k1_off509_inb : ∀ (i : grid1.Coords) (v582 : BitVec 32) (v584 : BitVec 32) (k1_hw4 : k1_chk4 i v582 v584) (k1_t36 : Fin (k1_t36_loop v582 v584).trips) (k1_t38 : Fin (k1_t38_loop v582 v584 k1_t36).trips), ∀ a, (k1_off509 v582 v584 k1_t36 k1_t38) a + S1x16.size a ≤ S72x256.size a := fun i v582 v584 k1_hw4 k1_t36 k1_t38 => k1_hw4.2.2.2.1.2.2.2.2.2.2.2.2.1 k1_t36 k1_t38
theorem k1_off510_inb : ∀ (i : grid1.Coords) (v582 : BitVec 32) (v584 : BitVec 32) (k1_hw4 : k1_chk4 i v582 v584) (k1_t36 : Fin (k1_t36_loop v582 v584).trips) (k1_t38 : Fin (k1_t38_loop v582 v584 k1_t36).trips), ∀ a, (k1_off510 v582 v584 k1_t36 k1_t38) a + S1x16.size a ≤ S72x256.size a := fun i v582 v584 k1_hw4 k1_t36 k1_t38 => k1_hw4.2.2.2.1.2.2.2.2.2.2.2.2.2.1 k1_t36 k1_t38
theorem k1_off511_inb : ∀ (i : grid1.Coords) (v582 : BitVec 32) (v584 : BitVec 32) (k1_hw4 : k1_chk4 i v582 v584) (k1_t36 : Fin (k1_t36_loop v582 v584).trips) (k1_t38 : Fin (k1_t38_loop v582 v584 k1_t36).trips), ∀ a, (k1_off511 v582 v584 k1_t36 k1_t38) a + S1x16.size a ≤ S72x256.size a := fun i v582 v584 k1_hw4 k1_t36 k1_t38 => k1_hw4.2.2.2.1.2.2.2.2.2.2.2.2.2.2.1 k1_t36 k1_t38
theorem k1_off512_inb : ∀ (i : grid1.Coords) (v582 : BitVec 32) (v584 : BitVec 32) (k1_hw4 : k1_chk4 i v582 v584) (k1_t36 : Fin (k1_t36_loop v582 v584).trips) (k1_t38 : Fin (k1_t38_loop v582 v584 k1_t36).trips), ∀ a, (k1_off512 v582 v584 k1_t36 k1_t38) a + S1x16.size a ≤ S72x256.size a := fun i v582 v584 k1_hw4 k1_t36 k1_t38 => k1_hw4.2.2.2.1.2.2.2.2.2.2.2.2.2.2.2.1 k1_t36 k1_t38
theorem k1_off513_inb : ∀ (i : grid1.Coords) (v582 : BitVec 32) (v584 : BitVec 32) (k1_hw4 : k1_chk4 i v582 v584) (k1_t36 : Fin (k1_t36_loop v582 v584).trips) (k1_t38 : Fin (k1_t38_loop v582 v584 k1_t36).trips), ∀ a, (k1_off513 v582 v584 k1_t36 k1_t38) a + S1x16.size a ≤ S72x256.size a := fun i v582 v584 k1_hw4 k1_t36 k1_t38 => k1_hw4.2.2.2.1.2.2.2.2.2.2.2.2.2.2.2.2.1 k1_t36 k1_t38
theorem k1_off514_inb : ∀ (i : grid1.Coords) (v582 : BitVec 32) (v584 : BitVec 32) (k1_hw4 : k1_chk4 i v582 v584) (k1_t36 : Fin (k1_t36_loop v582 v584).trips) (k1_t38 : Fin (k1_t38_loop v582 v584 k1_t36).trips), ∀ a, (k1_off514 v582 v584 k1_t36 k1_t38) a + S1x16.size a ≤ S72x256.size a := fun i v582 v584 k1_hw4 k1_t36 k1_t38 => k1_hw4.2.2.2.1.2.2.2.2.2.2.2.2.2.2.2.2.2.1 k1_t36 k1_t38
theorem k1_off515_inb : ∀ (i : grid1.Coords) (v582 : BitVec 32) (v584 : BitVec 32) (k1_hw4 : k1_chk4 i v582 v584) (k1_t36 : Fin (k1_t36_loop v582 v584).trips) (k1_t38 : Fin (k1_t38_loop v582 v584 k1_t36).trips), ∀ a, (k1_off515 v582 v584 k1_t36 k1_t38) a + S1x16.size a ≤ S72x256.size a := fun i v582 v584 k1_hw4 k1_t36 k1_t38 => k1_hw4.2.2.2.1.2.2.2.2.2.2.2.2.2.2.2.2.2.2.1 k1_t36 k1_t38
theorem k1_off516_inb : ∀ (i : grid1.Coords) (v582 : BitVec 32) (v584 : BitVec 32) (k1_hw4 : k1_chk4 i v582 v584) (k1_t36 : Fin (k1_t36_loop v582 v584).trips), ∀ (k1_h35 : k1_cond35 v582 v584 k1_t36 = 1#1), ∀ a, (k1_off516 i v582 v584 k1_t36) a + S72x256.size a ≤ S100000x512.size a := fun i v582 v584 k1_hw4 k1_t36 k1_h35 => k1_hw4.2.2.2.1.2.2.2.2.2.2.2.2.2.2.2.2.2.2.2.1 k1_t36 k1_h35
theorem k1_off517_inb : ∀ (i : grid1.Coords) (v582 : BitVec 32) (v584 : BitVec 32) (k1_hw4 : k1_chk4 i v582 v584) (k1_t36 : Fin (k1_t36_loop v582 v584).trips), ∀ (k1_h35 : k1_cond35 v582 v584 k1_t36 = 1#1), ∀ (k1_h36 : k1_cond36 v582 v584 k1_t36 = 1#1), ∀ a, (k1_off517 i v582 v584 k1_t36) a + S72x256.size a ≤ S100000x512.size a := fun i v582 v584 k1_hw4 k1_t36 k1_h35 k1_h36 => k1_hw4.2.2.2.1.2.2.2.2.2.2.2.2.2.2.2.2.2.2.2.2.1 k1_t36 k1_h35 k1_h36
theorem k1_t39_ok : ∀ (i : grid1.Coords) (v582 : BitVec 32) (v584 : BitVec 32) (k1_hw4 : k1_chk4 i v582 v584) (k1_t36 : Fin (k1_t36_loop v582 v584).trips), (k1_t39_loop v582 v584 k1_t36).OK := fun i v582 v584 k1_hw4 k1_t36 => k1_hw4.2.2.2.1.2.2.2.2.2.2.2.2.2.2.2.2.2.2.2.2.2.1 k1_t36
theorem k1_off518_inb : ∀ (i : grid1.Coords) (v582 : BitVec 32) (v584 : BitVec 32) (k1_hw4 : k1_chk4 i v582 v584) (k1_t36 : Fin (k1_t36_loop v582 v584).trips) (k1_t39 : Fin (k1_t39_loop v582 v584 k1_t36).trips), ∀ a, (k1_off518 v582 v584 k1_t36 k1_t39) a + S1x16.size a ≤ S72x256.size a := fun i v582 v584 k1_hw4 k1_t36 k1_t39 => k1_hw4.2.2.2.1.2.2.2.2.2.2.2.2.2.2.2.2.2.2.2.2.2.2.1 k1_t36 k1_t39
theorem k1_off519_inb : ∀ (i : grid1.Coords) (v582 : BitVec 32) (v584 : BitVec 32) (k1_hw4 : k1_chk4 i v582 v584) (k1_t36 : Fin (k1_t36_loop v582 v584).trips) (k1_t39 : Fin (k1_t39_loop v582 v584 k1_t36).trips), ∀ a, (k1_off519 v582 v584 k1_t36 k1_t39) a + S1x16.size a ≤ S72x256.size a := fun i v582 v584 k1_hw4 k1_t36 k1_t39 => k1_hw4.2.2.2.1.2.2.2.2.2.2.2.2.2.2.2.2.2.2.2.2.2.2.2.1 k1_t36 k1_t39
theorem k1_off520_inb : ∀ (i : grid1.Coords) (v582 : BitVec 32) (v584 : BitVec 32) (k1_hw4 : k1_chk4 i v582 v584) (k1_t36 : Fin (k1_t36_loop v582 v584).trips) (k1_t39 : Fin (k1_t39_loop v582 v584 k1_t36).trips), ∀ a, (k1_off520 v582 v584 k1_t36 k1_t39) a + S1x16.size a ≤ S72x256.size a := fun i v582 v584 k1_hw4 k1_t36 k1_t39 => k1_hw4.2.2.2.1.2.2.2.2.2.2.2.2.2.2.2.2.2.2.2.2.2.2.2.2.1 k1_t36 k1_t39
theorem k1_off521_inb : ∀ (i : grid1.Coords) (v582 : BitVec 32) (v584 : BitVec 32) (k1_hw4 : k1_chk4 i v582 v584) (k1_t36 : Fin (k1_t36_loop v582 v584).trips) (k1_t39 : Fin (k1_t39_loop v582 v584 k1_t36).trips), ∀ a, (k1_off521 v582 v584 k1_t36 k1_t39) a + S1x16.size a ≤ S72x256.size a := fun i v582 v584 k1_hw4 k1_t36 k1_t39 => k1_hw4.2.2.2.1.2.2.2.2.2.2.2.2.2.2.2.2.2.2.2.2.2.2.2.2.2.1 k1_t36 k1_t39
theorem k1_off522_inb : ∀ (i : grid1.Coords) (v582 : BitVec 32) (v584 : BitVec 32) (k1_hw4 : k1_chk4 i v582 v584) (k1_t36 : Fin (k1_t36_loop v582 v584).trips) (k1_t39 : Fin (k1_t39_loop v582 v584 k1_t36).trips), ∀ a, (k1_off522 v582 v584 k1_t36 k1_t39) a + S1x16.size a ≤ S72x256.size a := fun i v582 v584 k1_hw4 k1_t36 k1_t39 => k1_hw4.2.2.2.1.2.2.2.2.2.2.2.2.2.2.2.2.2.2.2.2.2.2.2.2.2.2.1 k1_t36 k1_t39
theorem k1_off523_inb : ∀ (i : grid1.Coords) (v582 : BitVec 32) (v584 : BitVec 32) (k1_hw4 : k1_chk4 i v582 v584) (k1_t36 : Fin (k1_t36_loop v582 v584).trips) (k1_t39 : Fin (k1_t39_loop v582 v584 k1_t36).trips), ∀ a, (k1_off523 v582 v584 k1_t36 k1_t39) a + S1x16.size a ≤ S72x256.size a := fun i v582 v584 k1_hw4 k1_t36 k1_t39 => k1_hw4.2.2.2.1.2.2.2.2.2.2.2.2.2.2.2.2.2.2.2.2.2.2.2.2.2.2.2.1 k1_t36 k1_t39
theorem k1_off524_inb : ∀ (i : grid1.Coords) (v582 : BitVec 32) (v584 : BitVec 32) (k1_hw4 : k1_chk4 i v582 v584) (k1_t36 : Fin (k1_t36_loop v582 v584).trips) (k1_t39 : Fin (k1_t39_loop v582 v584 k1_t36).trips), ∀ a, (k1_off524 v582 v584 k1_t36 k1_t39) a + S1x16.size a ≤ S72x256.size a := fun i v582 v584 k1_hw4 k1_t36 k1_t39 => k1_hw4.2.2.2.1.2.2.2.2.2.2.2.2.2.2.2.2.2.2.2.2.2.2.2.2.2.2.2.2.1 k1_t36 k1_t39
theorem k1_off525_inb : ∀ (i : grid1.Coords) (v582 : BitVec 32) (v584 : BitVec 32) (k1_hw4 : k1_chk4 i v582 v584) (k1_t36 : Fin (k1_t36_loop v582 v584).trips) (k1_t39 : Fin (k1_t39_loop v582 v584 k1_t36).trips), ∀ a, (k1_off525 v582 v584 k1_t36 k1_t39) a + S1x16.size a ≤ S72x256.size a := fun i v582 v584 k1_hw4 k1_t36 k1_t39 => k1_hw4.2.2.2.1.2.2.2.2.2.2.2.2.2.2.2.2.2.2.2.2.2.2.2.2.2.2.2.2.2.1 k1_t36 k1_t39
theorem k1_off526_inb : ∀ (i : grid1.Coords) (v582 : BitVec 32) (v584 : BitVec 32) (k1_hw4 : k1_chk4 i v582 v584) (k1_t36 : Fin (k1_t36_loop v582 v584).trips) (k1_t39 : Fin (k1_t39_loop v582 v584 k1_t36).trips), ∀ a, (k1_off526 v582 v584 k1_t36 k1_t39) a + S1x16.size a ≤ S72x256.size a := fun i v582 v584 k1_hw4 k1_t36 k1_t39 => k1_hw4.2.2.2.1.2.2.2.2.2.2.2.2.2.2.2.2.2.2.2.2.2.2.2.2.2.2.2.2.2.2.1 k1_t36 k1_t39
theorem k1_off527_inb : ∀ (i : grid1.Coords) (v582 : BitVec 32) (v584 : BitVec 32) (k1_hw4 : k1_chk4 i v582 v584) (k1_t36 : Fin (k1_t36_loop v582 v584).trips) (k1_t39 : Fin (k1_t39_loop v582 v584 k1_t36).trips), ∀ a, (k1_off527 v582 v584 k1_t36 k1_t39) a + S1x16.size a ≤ S72x256.size a := fun i v582 v584 k1_hw4 k1_t36 k1_t39 => k1_hw4.2.2.2.1.2.2.2.2.2.2.2.2.2.2.2.2.2.2.2.2.2.2.2.2.2.2.2.2.2.2.2.1 k1_t36 k1_t39
theorem k1_off528_inb : ∀ (i : grid1.Coords) (v582 : BitVec 32) (v584 : BitVec 32) (k1_hw4 : k1_chk4 i v582 v584) (k1_t36 : Fin (k1_t36_loop v582 v584).trips) (k1_t39 : Fin (k1_t39_loop v582 v584 k1_t36).trips), ∀ a, (k1_off528 v582 v584 k1_t36 k1_t39) a + S1x16.size a ≤ S72x256.size a := fun i v582 v584 k1_hw4 k1_t36 k1_t39 => k1_hw4.2.2.2.1.2.2.2.2.2.2.2.2.2.2.2.2.2.2.2.2.2.2.2.2.2.2.2.2.2.2.2.2.1 k1_t36 k1_t39
theorem k1_off529_inb : ∀ (i : grid1.Coords) (v582 : BitVec 32) (v584 : BitVec 32) (k1_hw4 : k1_chk4 i v582 v584) (k1_t36 : Fin (k1_t36_loop v582 v584).trips) (k1_t39 : Fin (k1_t39_loop v582 v584 k1_t36).trips), ∀ a, (k1_off529 v582 v584 k1_t36 k1_t39) a + S1x16.size a ≤ S72x256.size a := fun i v582 v584 k1_hw4 k1_t36 k1_t39 => k1_hw4.2.2.2.1.2.2.2.2.2.2.2.2.2.2.2.2.2.2.2.2.2.2.2.2.2.2.2.2.2.2.2.2.2.1 k1_t36 k1_t39
theorem k1_off530_inb : ∀ (i : grid1.Coords) (v582 : BitVec 32) (v584 : BitVec 32) (k1_hw4 : k1_chk4 i v582 v584) (k1_t36 : Fin (k1_t36_loop v582 v584).trips) (k1_t39 : Fin (k1_t39_loop v582 v584 k1_t36).trips), ∀ a, (k1_off530 v582 v584 k1_t36 k1_t39) a + S1x16.size a ≤ S72x256.size a := fun i v582 v584 k1_hw4 k1_t36 k1_t39 => k1_hw4.2.2.2.1.2.2.2.2.2.2.2.2.2.2.2.2.2.2.2.2.2.2.2.2.2.2.2.2.2.2.2.2.2.2.1 k1_t36 k1_t39
theorem k1_off531_inb : ∀ (i : grid1.Coords) (v582 : BitVec 32) (v584 : BitVec 32) (k1_hw4 : k1_chk4 i v582 v584) (k1_t36 : Fin (k1_t36_loop v582 v584).trips) (k1_t39 : Fin (k1_t39_loop v582 v584 k1_t36).trips), ∀ a, (k1_off531 v582 v584 k1_t36 k1_t39) a + S1x16.size a ≤ S72x256.size a := fun i v582 v584 k1_hw4 k1_t36 k1_t39 => k1_hw4.2.2.2.1.2.2.2.2.2.2.2.2.2.2.2.2.2.2.2.2.2.2.2.2.2.2.2.2.2.2.2.2.2.2.2 k1_t36 k1_t39
theorem k1_off532_inb : ∀ (i : grid1.Coords) (v582 : BitVec 32) (v584 : BitVec 32) (k1_hw4 : k1_chk4 i v582 v584) (k1_t36 : Fin (k1_t36_loop v582 v584).trips) (k1_t39 : Fin (k1_t39_loop v582 v584 k1_t36).trips), ∀ a, (k1_off532 v582 v584 k1_t36 k1_t39) a + S1x16.size a ≤ S72x256.size a := fun i v582 v584 k1_hw4 k1_t36 k1_t39 => k1_hw4.2.2.2.2.1 k1_t36 k1_t39
theorem k1_off533_inb : ∀ (i : grid1.Coords) (v582 : BitVec 32) (v584 : BitVec 32) (k1_hw4 : k1_chk4 i v582 v584) (k1_t36 : Fin (k1_t36_loop v582 v584).trips) (k1_t39 : Fin (k1_t39_loop v582 v584 k1_t36).trips), ∀ a, (k1_off533 v582 v584 k1_t36 k1_t39) a + S1x16.size a ≤ S72x256.size a := fun i v582 v584 k1_hw4 k1_t36 k1_t39 => k1_hw4.2.2.2.2.2.1 k1_t36 k1_t39
theorem k1_t40_ok : ∀ (i : grid1.Coords) (v582 : BitVec 32) (v584 : BitVec 32) (k1_hw4 : k1_chk4 i v582 v584) (k1_t36 : Fin (k1_t36_loop v582 v584).trips), (k1_t40_loop v582 v584 k1_t36).OK := fun i v582 v584 k1_hw4 k1_t36 => k1_hw4.2.2.2.2.2.2.1 k1_t36
theorem k1_off534_inb : ∀ (i : grid1.Coords) (v582 : BitVec 32) (v584 : BitVec 32) (k1_hw4 : k1_chk4 i v582 v584) (k1_t36 : Fin (k1_t36_loop v582 v584).trips) (k1_t40 : Fin (k1_t40_loop v582 v584 k1_t36).trips), ∀ a, (k1_off534 v582 v584 k1_t36 k1_t40) a + S1x16.size a ≤ S72x256.size a := fun i v582 v584 k1_hw4 k1_t36 k1_t40 => k1_hw4.2.2.2.2.2.2.2.1 k1_t36 k1_t40
theorem k1_off535_inb : ∀ (i : grid1.Coords) (v582 : BitVec 32) (v584 : BitVec 32) (k1_hw4 : k1_chk4 i v582 v584) (k1_t36 : Fin (k1_t36_loop v582 v584).trips) (k1_t40 : Fin (k1_t40_loop v582 v584 k1_t36).trips), ∀ a, (k1_off535 v582 v584 k1_t36 k1_t40) a + S1x16.size a ≤ S72x256.size a := fun i v582 v584 k1_hw4 k1_t36 k1_t40 => k1_hw4.2.2.2.2.2.2.2.2.1 k1_t36 k1_t40
theorem k1_off536_inb : ∀ (i : grid1.Coords) (v582 : BitVec 32) (v584 : BitVec 32) (k1_hw4 : k1_chk4 i v582 v584) (k1_t36 : Fin (k1_t36_loop v582 v584).trips) (k1_t40 : Fin (k1_t40_loop v582 v584 k1_t36).trips), ∀ a, (k1_off536 v582 v584 k1_t36 k1_t40) a + S1x16.size a ≤ S72x256.size a := fun i v582 v584 k1_hw4 k1_t36 k1_t40 => k1_hw4.2.2.2.2.2.2.2.2.2.1 k1_t36 k1_t40
theorem k1_off537_inb : ∀ (i : grid1.Coords) (v582 : BitVec 32) (v584 : BitVec 32) (k1_hw4 : k1_chk4 i v582 v584) (k1_t36 : Fin (k1_t36_loop v582 v584).trips) (k1_t40 : Fin (k1_t40_loop v582 v584 k1_t36).trips), ∀ a, (k1_off537 v582 v584 k1_t36 k1_t40) a + S1x16.size a ≤ S72x256.size a := fun i v582 v584 k1_hw4 k1_t36 k1_t40 => k1_hw4.2.2.2.2.2.2.2.2.2.2.1 k1_t36 k1_t40
theorem k1_off538_inb : ∀ (i : grid1.Coords) (v582 : BitVec 32) (v584 : BitVec 32) (k1_hw4 : k1_chk4 i v582 v584) (k1_t36 : Fin (k1_t36_loop v582 v584).trips) (k1_t40 : Fin (k1_t40_loop v582 v584 k1_t36).trips), ∀ a, (k1_off538 v582 v584 k1_t36 k1_t40) a + S1x16.size a ≤ S72x256.size a := fun i v582 v584 k1_hw4 k1_t36 k1_t40 => k1_hw4.2.2.2.2.2.2.2.2.2.2.2.1 k1_t36 k1_t40
theorem k1_off539_inb : ∀ (i : grid1.Coords) (v582 : BitVec 32) (v584 : BitVec 32) (k1_hw4 : k1_chk4 i v582 v584) (k1_t36 : Fin (k1_t36_loop v582 v584).trips) (k1_t40 : Fin (k1_t40_loop v582 v584 k1_t36).trips), ∀ a, (k1_off539 v582 v584 k1_t36 k1_t40) a + S1x16.size a ≤ S72x256.size a := fun i v582 v584 k1_hw4 k1_t36 k1_t40 => k1_hw4.2.2.2.2.2.2.2.2.2.2.2.2.1 k1_t36 k1_t40
theorem k1_off540_inb : ∀ (i : grid1.Coords) (v582 : BitVec 32) (v584 : BitVec 32) (k1_hw4 : k1_chk4 i v582 v584) (k1_t36 : Fin (k1_t36_loop v582 v584).trips) (k1_t40 : Fin (k1_t40_loop v582 v584 k1_t36).trips), ∀ a, (k1_off540 v582 v584 k1_t36 k1_t40) a + S1x16.size a ≤ S72x256.size a := fun i v582 v584 k1_hw4 k1_t36 k1_t40 => k1_hw4.2.2.2.2.2.2.2.2.2.2.2.2.2.1 k1_t36 k1_t40
theorem k1_off541_inb : ∀ (i : grid1.Coords) (v582 : BitVec 32) (v584 : BitVec 32) (k1_hw4 : k1_chk4 i v582 v584) (k1_t36 : Fin (k1_t36_loop v582 v584).trips) (k1_t40 : Fin (k1_t40_loop v582 v584 k1_t36).trips), ∀ a, (k1_off541 v582 v584 k1_t36 k1_t40) a + S1x16.size a ≤ S72x256.size a := fun i v582 v584 k1_hw4 k1_t36 k1_t40 => k1_hw4.2.2.2.2.2.2.2.2.2.2.2.2.2.2.1 k1_t36 k1_t40
theorem k1_off542_inb : ∀ (i : grid1.Coords) (v582 : BitVec 32) (v584 : BitVec 32) (k1_hw4 : k1_chk4 i v582 v584) (k1_t36 : Fin (k1_t36_loop v582 v584).trips) (k1_t40 : Fin (k1_t40_loop v582 v584 k1_t36).trips), ∀ a, (k1_off542 v582 v584 k1_t36 k1_t40) a + S1x16.size a ≤ S72x256.size a := fun i v582 v584 k1_hw4 k1_t36 k1_t40 => k1_hw4.2.2.2.2.2.2.2.2.2.2.2.2.2.2.2.1 k1_t36 k1_t40
theorem k1_off543_inb : ∀ (i : grid1.Coords) (v582 : BitVec 32) (v584 : BitVec 32) (k1_hw4 : k1_chk4 i v582 v584) (k1_t36 : Fin (k1_t36_loop v582 v584).trips) (k1_t40 : Fin (k1_t40_loop v582 v584 k1_t36).trips), ∀ a, (k1_off543 v582 v584 k1_t36 k1_t40) a + S1x16.size a ≤ S72x256.size a := fun i v582 v584 k1_hw4 k1_t36 k1_t40 => k1_hw4.2.2.2.2.2.2.2.2.2.2.2.2.2.2.2.2.1 k1_t36 k1_t40
theorem k1_off544_inb : ∀ (i : grid1.Coords) (v582 : BitVec 32) (v584 : BitVec 32) (k1_hw4 : k1_chk4 i v582 v584) (k1_t36 : Fin (k1_t36_loop v582 v584).trips) (k1_t40 : Fin (k1_t40_loop v582 v584 k1_t36).trips), ∀ a, (k1_off544 v582 v584 k1_t36 k1_t40) a + S1x16.size a ≤ S72x256.size a := fun i v582 v584 k1_hw4 k1_t36 k1_t40 => k1_hw4.2.2.2.2.2.2.2.2.2.2.2.2.2.2.2.2.2.1 k1_t36 k1_t40
theorem k1_off545_inb : ∀ (i : grid1.Coords) (v582 : BitVec 32) (v584 : BitVec 32) (k1_hw4 : k1_chk4 i v582 v584) (k1_t36 : Fin (k1_t36_loop v582 v584).trips) (k1_t40 : Fin (k1_t40_loop v582 v584 k1_t36).trips), ∀ a, (k1_off545 v582 v584 k1_t36 k1_t40) a + S1x16.size a ≤ S72x256.size a := fun i v582 v584 k1_hw4 k1_t36 k1_t40 => k1_hw4.2.2.2.2.2.2.2.2.2.2.2.2.2.2.2.2.2.2.1 k1_t36 k1_t40
theorem k1_off546_inb : ∀ (i : grid1.Coords) (v582 : BitVec 32) (v584 : BitVec 32) (k1_hw4 : k1_chk4 i v582 v584) (k1_t36 : Fin (k1_t36_loop v582 v584).trips) (k1_t40 : Fin (k1_t40_loop v582 v584 k1_t36).trips), ∀ a, (k1_off546 v582 v584 k1_t36 k1_t40) a + S1x16.size a ≤ S72x256.size a := fun i v582 v584 k1_hw4 k1_t36 k1_t40 => k1_hw4.2.2.2.2.2.2.2.2.2.2.2.2.2.2.2.2.2.2.2.1 k1_t36 k1_t40
theorem k1_off547_inb : ∀ (i : grid1.Coords) (v582 : BitVec 32) (v584 : BitVec 32) (k1_hw4 : k1_chk4 i v582 v584) (k1_t36 : Fin (k1_t36_loop v582 v584).trips) (k1_t40 : Fin (k1_t40_loop v582 v584 k1_t36).trips), ∀ a, (k1_off547 v582 v584 k1_t36 k1_t40) a + S1x16.size a ≤ S72x256.size a := fun i v582 v584 k1_hw4 k1_t36 k1_t40 => k1_hw4.2.2.2.2.2.2.2.2.2.2.2.2.2.2.2.2.2.2.2.2.1 k1_t36 k1_t40
theorem k1_off548_inb : ∀ (i : grid1.Coords) (v582 : BitVec 32) (v584 : BitVec 32) (k1_hw4 : k1_chk4 i v582 v584) (k1_t36 : Fin (k1_t36_loop v582 v584).trips) (k1_t40 : Fin (k1_t40_loop v582 v584 k1_t36).trips), ∀ a, (k1_off548 v582 v584 k1_t36 k1_t40) a + S1x16.size a ≤ S72x256.size a := fun i v582 v584 k1_hw4 k1_t36 k1_t40 => k1_hw4.2.2.2.2.2.2.2.2.2.2.2.2.2.2.2.2.2.2.2.2.2.1 k1_t36 k1_t40
theorem k1_off549_inb : ∀ (i : grid1.Coords) (v582 : BitVec 32) (v584 : BitVec 32) (k1_hw4 : k1_chk4 i v582 v584) (k1_t36 : Fin (k1_t36_loop v582 v584).trips) (k1_t40 : Fin (k1_t40_loop v582 v584 k1_t36).trips), ∀ a, (k1_off549 v582 v584 k1_t36 k1_t40) a + S1x16.size a ≤ S72x256.size a := fun i v582 v584 k1_hw4 k1_t36 k1_t40 => k1_hw4.2.2.2.2.2.2.2.2.2.2.2.2.2.2.2.2.2.2.2.2.2.2 k1_t36 k1_t40

def k1_off550 (i : grid1.Coords) (v764 : BitVec 32) : Fin 2 → Nat :=
  let c0_i32_1408 : BitVec 32 := 0#32
  let v2949 : BitVec 32 := Scalar.addi v764 c0_i32_1408
  let c0_i32_1410 : BitVec 32 := 0#32
  let v2951 : BitVec 1 := Scalar.cmpi .sgt v2949 c0_i32_1410
  let v2952 : BitVec 32 := Scalar.extui v2951
  let c0_i32_1411 : BitVec 32 := 0#32
  let v2953 : BitVec 1 := Scalar.cmpi .slt v2949 c0_i32_1411
  let v2954 : BitVec 32 := Scalar.extui v2953
  let v2955 : BitVec 32 := Scalar.subi v2952 v2954
  let c8_i32_1409 : BitVec 32 := 8#32
  let c0_i32_1412 : BitVec 32 := 0#32
  let v2956 : BitVec 1 := Scalar.cmpi .sgt c8_i32_1409 c0_i32_1412
  let v2957 : BitVec 32 := Scalar.extui v2956
  let c0_i32_1413 : BitVec 32 := 0#32
  let v2958 : BitVec 1 := Scalar.cmpi .slt c8_i32_1409 c0_i32_1413
  let v2959 : BitVec 32 := Scalar.extui v2958
  let v2960 : BitVec 32 := Scalar.subi v2957 v2959
  let v2961 : BitVec 1 := Scalar.cmpi .ne v2955 v2960
  let v2962 : BitVec 32 := Scalar.remsi v2949 c8_i32_1409
  let c0_i32_1414 : BitVec 32 := 0#32
  let v2963 : BitVec 1 := Scalar.cmpi .ne v2962 c0_i32_1414
  let v2964 : BitVec 1 := Scalar.andi v2961 v2963
  let v2950 : BitVec 32 := Scalar.divsi v2949 c8_i32_1409
  let c1_i32_1415 : BitVec 32 := 1#32
  let v2965 : BitVec 32 := Scalar.subi v2950 c1_i32_1415
  let v2966 : BitVec 32 := Scalar.select v2964 v2965 v2950
  let c8_i32_1416 : BitVec 32 := 8#32
  let v2967 : BitVec 32 := Scalar.muli v2966 c8_i32_1416
  let c99928_i32 : BitVec 32 := 99928#32
  let v2968 : BitVec 32 := Scalar.minsi v2967 c99928_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v2968.toNat, v29.toNat]
def k1_cond37 (v764 : BitVec 32) (v766 : BitVec 32) : BitVec 1 :=
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c0_i32_361 : BitVec 32 := 0#32
  let v789 : BitVec 1 := Scalar.cmpi .sgt v788 c0_i32_361
  let v790 : BitVec 32 := Scalar.extui v789
  let c0_i32_362 : BitVec 32 := 0#32
  let v791 : BitVec 1 := Scalar.cmpi .ne v790 c0_i32_362
  v791

@[reducible] def k1_t41_loop (v764 : BitVec 32) (v766 : BitVec 32) : Scf.Loop 32 :=
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_373 : BitVec 32 := 1#32
  ⟨c0_i32_371, v814, c1_i32_373⟩
def k1_off551 (i : grid1.Coords) (v764 : BitVec 32) (v766 : BitVec 32) (k1_t41 : Fin (k1_t41_loop v764 v766).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1446 : BitVec 32 := 64#32
  let v3026 : BitVec 32 := Scalar.muli v2949 c64_i32_1446
  let v3027 : BitVec 32 := Scalar.addi v764 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond38 (v764 : BitVec 32) (v766 : BitVec 32) (k1_t41 : Fin (k1_t41_loop v764 v766).trips) : BitVec 1 :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let v2950 : BitVec 1 := Scalar.cmpi .slt v2949 v788
  let v2951 : BitVec 32 := Scalar.extui v2950
  let c0_i32_1409 : BitVec 32 := 0#32
  let v2952 : BitVec 1 := Scalar.cmpi .ne v2951 c0_i32_1409
  v2952

def k1_off552 (i : grid1.Coords) (v764 : BitVec 32) (v766 : BitVec 32) (k1_t41 : Fin (k1_t41_loop v764 v766).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v764 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond39 (v764 : BitVec 32) (v766 : BitVec 32) (k1_t41 : Fin (k1_t41_loop v764 v766).trips) : BitVec 1 :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c1_i32_1456 : BitVec 32 := 1#32
  let v3049 : BitVec 32 := Scalar.addi v2949 c1_i32_1456
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let v3050 : BitVec 1 := Scalar.cmpi .slt v3049 v788
  let v3051 : BitVec 32 := Scalar.extui v3050
  let c0_i32_1457 : BitVec 32 := 0#32
  let v3052 : BitVec 1 := Scalar.cmpi .ne v3051 c0_i32_1457
  v3052

@[reducible] def k1_t42_loop (v764 : BitVec 32) (v766 : BitVec 32) (k1_t41 : Fin (k1_t41_loop v764 v766).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off553 (v764 : BitVec 32) (v766 : BitVec 32) (k1_t41 : Fin (k1_t41_loop v764 v766).trips) (k1_t42 : Fin (k1_t42_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t42
  let v3026 : BitVec 32 := Scalar.addi v2976 arg46
  let v3027 : Index := Scalar.indexCast v3026
  let c0_1446 : Index := 0#32
  ![v3027.toNat, 0]
def k1_off554 (v764 : BitVec 32) (v766 : BitVec 32) (k1_t41 : Fin (k1_t41_loop v764 v766).trips) (k1_t42 : Fin (k1_t42_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t42
  let v3026 : BitVec 32 := Scalar.addi v2976 arg46
  let v3032 : Index := Scalar.indexCast v3026
  let c16_1447 : Index := 16#32
  ![v3032.toNat, 16]
def k1_off555 (v764 : BitVec 32) (v766 : BitVec 32) (k1_t41 : Fin (k1_t41_loop v764 v766).trips) (k1_t42 : Fin (k1_t42_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t42
  let v3026 : BitVec 32 := Scalar.addi v2976 arg46
  let v3037 : Index := Scalar.indexCast v3026
  let c32_1448 : Index := 32#32
  ![v3037.toNat, 32]
def k1_off556 (v764 : BitVec 32) (v766 : BitVec 32) (k1_t41 : Fin (k1_t41_loop v764 v766).trips) (k1_t42 : Fin (k1_t42_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t42
  let v3026 : BitVec 32 := Scalar.addi v2976 arg46
  let v3042 : Index := Scalar.indexCast v3026
  let c48_1449 : Index := 48#32
  ![v3042.toNat, 48]
def k1_off557 (v764 : BitVec 32) (v766 : BitVec 32) (k1_t41 : Fin (k1_t41_loop v764 v766).trips) (k1_t42 : Fin (k1_t42_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t42
  let v3026 : BitVec 32 := Scalar.addi v2976 arg46
  let v3047 : Index := Scalar.indexCast v3026
  let c64_1450 : Index := 64#32
  ![v3047.toNat, 64]
def k1_off558 (v764 : BitVec 32) (v766 : BitVec 32) (k1_t41 : Fin (k1_t41_loop v764 v766).trips) (k1_t42 : Fin (k1_t42_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t42
  let v3026 : BitVec 32 := Scalar.addi v2976 arg46
  let v3052 : Index := Scalar.indexCast v3026
  let c80_1451 : Index := 80#32
  ![v3052.toNat, 80]
def k1_off559 (v764 : BitVec 32) (v766 : BitVec 32) (k1_t41 : Fin (k1_t41_loop v764 v766).trips) (k1_t42 : Fin (k1_t42_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t42
  let v3026 : BitVec 32 := Scalar.addi v2976 arg46
  let v3057 : Index := Scalar.indexCast v3026
  let c96_1452 : Index := 96#32
  ![v3057.toNat, 96]
def k1_off560 (v764 : BitVec 32) (v766 : BitVec 32) (k1_t41 : Fin (k1_t41_loop v764 v766).trips) (k1_t42 : Fin (k1_t42_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t42
  let v3026 : BitVec 32 := Scalar.addi v2976 arg46
  let v3062 : Index := Scalar.indexCast v3026
  let c112_1453 : Index := 112#32
  ![v3062.toNat, 112]
def k1_off561 (v764 : BitVec 32) (v766 : BitVec 32) (k1_t41 : Fin (k1_t41_loop v764 v766).trips) (k1_t42 : Fin (k1_t42_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t42
  let v3026 : BitVec 32 := Scalar.addi v2976 arg46
  let v3067 : Index := Scalar.indexCast v3026
  let c128_1454 : Index := 128#32
  ![v3067.toNat, 128]
def k1_off562 (v764 : BitVec 32) (v766 : BitVec 32) (k1_t41 : Fin (k1_t41_loop v764 v766).trips) (k1_t42 : Fin (k1_t42_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t42
  let v3026 : BitVec 32 := Scalar.addi v2976 arg46
  let v3072 : Index := Scalar.indexCast v3026
  let c144_1455 : Index := 144#32
  ![v3072.toNat, 144]
def k1_off563 (v764 : BitVec 32) (v766 : BitVec 32) (k1_t41 : Fin (k1_t41_loop v764 v766).trips) (k1_t42 : Fin (k1_t42_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t42
  let v3026 : BitVec 32 := Scalar.addi v2976 arg46
  let v3077 : Index := Scalar.indexCast v3026
  let c160_1456 : Index := 160#32
  ![v3077.toNat, 160]
def k1_off564 (v764 : BitVec 32) (v766 : BitVec 32) (k1_t41 : Fin (k1_t41_loop v764 v766).trips) (k1_t42 : Fin (k1_t42_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t42
  let v3026 : BitVec 32 := Scalar.addi v2976 arg46
  let v3082 : Index := Scalar.indexCast v3026
  let c176_1457 : Index := 176#32
  ![v3082.toNat, 176]
def k1_off565 (v764 : BitVec 32) (v766 : BitVec 32) (k1_t41 : Fin (k1_t41_loop v764 v766).trips) (k1_t42 : Fin (k1_t42_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t42
  let v3026 : BitVec 32 := Scalar.addi v2976 arg46
  let v3087 : Index := Scalar.indexCast v3026
  let c192_1458 : Index := 192#32
  ![v3087.toNat, 192]
def k1_off566 (v764 : BitVec 32) (v766 : BitVec 32) (k1_t41 : Fin (k1_t41_loop v764 v766).trips) (k1_t42 : Fin (k1_t42_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t42
  let v3026 : BitVec 32 := Scalar.addi v2976 arg46
  let v3092 : Index := Scalar.indexCast v3026
  let c208_1459 : Index := 208#32
  ![v3092.toNat, 208]
def k1_off567 (v764 : BitVec 32) (v766 : BitVec 32) (k1_t41 : Fin (k1_t41_loop v764 v766).trips) (k1_t42 : Fin (k1_t42_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t42
  let v3026 : BitVec 32 := Scalar.addi v2976 arg46
  let v3097 : Index := Scalar.indexCast v3026
  let c224_1460 : Index := 224#32
  ![v3097.toNat, 224]
def k1_off568 (v764 : BitVec 32) (v766 : BitVec 32) (k1_t41 : Fin (k1_t41_loop v764 v766).trips) (k1_t42 : Fin (k1_t42_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t42
  let v3026 : BitVec 32 := Scalar.addi v2976 arg46
  let v3102 : Index := Scalar.indexCast v3026
  let c240_1461 : Index := 240#32
  ![v3102.toNat, 240]
@[reducible] def k1_t43_loop (v764 : BitVec 32) (v766 : BitVec 32) (k1_t41 : Fin (k1_t41_loop v764 v766).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off569 (v764 : BitVec 32) (v766 : BitVec 32) (k1_t41 : Fin (k1_t41_loop v764 v766).trips) (k1_t43 : Fin (k1_t43_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t43
  let v3026 : BitVec 32 := Scalar.addi v2976 arg46
  let v3027 : Index := Scalar.indexCast v3026
  let c0_1446 : Index := 0#32
  ![v3027.toNat, 0]
def k1_off570 (v764 : BitVec 32) (v766 : BitVec 32) (k1_t41 : Fin (k1_t41_loop v764 v766).trips) (k1_t43 : Fin (k1_t43_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t43
  let v3026 : BitVec 32 := Scalar.addi v2976 arg46
  let v3032 : Index := Scalar.indexCast v3026
  let c16_1447 : Index := 16#32
  ![v3032.toNat, 16]
def k1_off571 (v764 : BitVec 32) (v766 : BitVec 32) (k1_t41 : Fin (k1_t41_loop v764 v766).trips) (k1_t43 : Fin (k1_t43_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t43
  let v3026 : BitVec 32 := Scalar.addi v2976 arg46
  let v3037 : Index := Scalar.indexCast v3026
  let c32_1448 : Index := 32#32
  ![v3037.toNat, 32]
def k1_off572 (v764 : BitVec 32) (v766 : BitVec 32) (k1_t41 : Fin (k1_t41_loop v764 v766).trips) (k1_t43 : Fin (k1_t43_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t43
  let v3026 : BitVec 32 := Scalar.addi v2976 arg46
  let v3042 : Index := Scalar.indexCast v3026
  let c48_1449 : Index := 48#32
  ![v3042.toNat, 48]
def k1_off573 (v764 : BitVec 32) (v766 : BitVec 32) (k1_t41 : Fin (k1_t41_loop v764 v766).trips) (k1_t43 : Fin (k1_t43_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t43
  let v3026 : BitVec 32 := Scalar.addi v2976 arg46
  let v3047 : Index := Scalar.indexCast v3026
  let c64_1450 : Index := 64#32
  ![v3047.toNat, 64]
def k1_off574 (v764 : BitVec 32) (v766 : BitVec 32) (k1_t41 : Fin (k1_t41_loop v764 v766).trips) (k1_t43 : Fin (k1_t43_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t43
  let v3026 : BitVec 32 := Scalar.addi v2976 arg46
  let v3052 : Index := Scalar.indexCast v3026
  let c80_1451 : Index := 80#32
  ![v3052.toNat, 80]
def k1_off575 (v764 : BitVec 32) (v766 : BitVec 32) (k1_t41 : Fin (k1_t41_loop v764 v766).trips) (k1_t43 : Fin (k1_t43_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t43
  let v3026 : BitVec 32 := Scalar.addi v2976 arg46
  let v3057 : Index := Scalar.indexCast v3026
  let c96_1452 : Index := 96#32
  ![v3057.toNat, 96]
def k1_off576 (v764 : BitVec 32) (v766 : BitVec 32) (k1_t41 : Fin (k1_t41_loop v764 v766).trips) (k1_t43 : Fin (k1_t43_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t43
  let v3026 : BitVec 32 := Scalar.addi v2976 arg46
  let v3062 : Index := Scalar.indexCast v3026
  let c112_1453 : Index := 112#32
  ![v3062.toNat, 112]
def k1_off577 (v764 : BitVec 32) (v766 : BitVec 32) (k1_t41 : Fin (k1_t41_loop v764 v766).trips) (k1_t43 : Fin (k1_t43_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t43
  let v3026 : BitVec 32 := Scalar.addi v2976 arg46
  let v3067 : Index := Scalar.indexCast v3026
  let c128_1454 : Index := 128#32
  ![v3067.toNat, 128]
def k1_off578 (v764 : BitVec 32) (v766 : BitVec 32) (k1_t41 : Fin (k1_t41_loop v764 v766).trips) (k1_t43 : Fin (k1_t43_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t43
  let v3026 : BitVec 32 := Scalar.addi v2976 arg46
  let v3072 : Index := Scalar.indexCast v3026
  let c144_1455 : Index := 144#32
  ![v3072.toNat, 144]
def k1_off579 (v764 : BitVec 32) (v766 : BitVec 32) (k1_t41 : Fin (k1_t41_loop v764 v766).trips) (k1_t43 : Fin (k1_t43_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t43
  let v3026 : BitVec 32 := Scalar.addi v2976 arg46
  let v3077 : Index := Scalar.indexCast v3026
  let c160_1456 : Index := 160#32
  ![v3077.toNat, 160]
def k1_off580 (v764 : BitVec 32) (v766 : BitVec 32) (k1_t41 : Fin (k1_t41_loop v764 v766).trips) (k1_t43 : Fin (k1_t43_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t43
  let v3026 : BitVec 32 := Scalar.addi v2976 arg46
  let v3082 : Index := Scalar.indexCast v3026
  let c176_1457 : Index := 176#32
  ![v3082.toNat, 176]
def k1_off581 (v764 : BitVec 32) (v766 : BitVec 32) (k1_t41 : Fin (k1_t41_loop v764 v766).trips) (k1_t43 : Fin (k1_t43_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t43
  let v3026 : BitVec 32 := Scalar.addi v2976 arg46
  let v3087 : Index := Scalar.indexCast v3026
  let c192_1458 : Index := 192#32
  ![v3087.toNat, 192]
def k1_off582 (v764 : BitVec 32) (v766 : BitVec 32) (k1_t41 : Fin (k1_t41_loop v764 v766).trips) (k1_t43 : Fin (k1_t43_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t43
  let v3026 : BitVec 32 := Scalar.addi v2976 arg46
  let v3092 : Index := Scalar.indexCast v3026
  let c208_1459 : Index := 208#32
  ![v3092.toNat, 208]
def k1_off583 (v764 : BitVec 32) (v766 : BitVec 32) (k1_t41 : Fin (k1_t41_loop v764 v766).trips) (k1_t43 : Fin (k1_t43_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t43
  let v3026 : BitVec 32 := Scalar.addi v2976 arg46
  let v3097 : Index := Scalar.indexCast v3026
  let c224_1460 : Index := 224#32
  ![v3097.toNat, 224]
def k1_off584 (v764 : BitVec 32) (v766 : BitVec 32) (k1_t41 : Fin (k1_t41_loop v764 v766).trips) (k1_t43 : Fin (k1_t43_loop v764 v766 k1_t41).trips) : Fin 2 → Nat :=
  let c2_i32_1408 : BitVec 32 := 2#32
  let c0_i32_371 : BitVec 32 := 0#32
  let c1_i32_373 : BitVec 32 := 1#32
  let arg13 : BitVec 32 := Scf.iv c0_i32_371 c1_i32_373 k1_t41
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t43
  let v3026 : BitVec 32 := Scalar.addi v2976 arg46
  let v3102 : Index := Scalar.indexCast v3026
  let c240_1461 : Index := 240#32
  ![v3102.toNat, 240]
def k1_off585 (i : grid1.Coords) (v764 : BitVec 32) (v766 : BitVec 32) (k1_t41 : Fin (k1_t41_loop v764 v766).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v764 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond40 (v764 : BitVec 32) (v766 : BitVec 32) (k1_t41 : Fin (k1_t41_loop v764 v766).trips) : BitVec 1 :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let v2989 : BitVec 1 := Scalar.cmpi .slt v2988 v788
  let v2990 : BitVec 32 := Scalar.extui v2989
  let c0_i32_1428 : BitVec 32 := 0#32
  let v2991 : BitVec 1 := Scalar.cmpi .ne v2990 c0_i32_1428
  v2991

def k1_off586 (i : grid1.Coords) (v764 : BitVec 32) (v766 : BitVec 32) (k1_t41 : Fin (k1_t41_loop v764 v766).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v764 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond41 (v764 : BitVec 32) (v766 : BitVec 32) (k1_t41 : Fin (k1_t41_loop v764 v766).trips) : BitVec 1 :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let v3050 : BitVec 1 := Scalar.cmpi .slt v3049 v788
  let v3051 : BitVec 32 := Scalar.extui v3050
  let c0_i32_1457 : BitVec 32 := 0#32
  let v3052 : BitVec 1 := Scalar.cmpi .ne v3051 c0_i32_1457
  v3052

@[reducible] def k1_t44_loop (v764 : BitVec 32) (v766 : BitVec 32) (k1_t41 : Fin (k1_t41_loop v764 v766).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off587 (v764 : BitVec 32) (v766 : BitVec 32) (k1_t41 : Fin (k1_t41_loop v764 v766).trips) (k1_t44 : Fin (k1_t44_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t44
  let v3026 : BitVec 32 := Scalar.addi v3015 arg46
  let v3027 : Index := Scalar.indexCast v3026
  let c0_1446 : Index := 0#32
  ![v3027.toNat, 0]
def k1_off588 (v764 : BitVec 32) (v766 : BitVec 32) (k1_t41 : Fin (k1_t41_loop v764 v766).trips) (k1_t44 : Fin (k1_t44_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t44
  let v3026 : BitVec 32 := Scalar.addi v3015 arg46
  let v3032 : Index := Scalar.indexCast v3026
  let c16_1447 : Index := 16#32
  ![v3032.toNat, 16]
def k1_off589 (v764 : BitVec 32) (v766 : BitVec 32) (k1_t41 : Fin (k1_t41_loop v764 v766).trips) (k1_t44 : Fin (k1_t44_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t44
  let v3026 : BitVec 32 := Scalar.addi v3015 arg46
  let v3037 : Index := Scalar.indexCast v3026
  let c32_1448 : Index := 32#32
  ![v3037.toNat, 32]
def k1_off590 (v764 : BitVec 32) (v766 : BitVec 32) (k1_t41 : Fin (k1_t41_loop v764 v766).trips) (k1_t44 : Fin (k1_t44_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t44
  let v3026 : BitVec 32 := Scalar.addi v3015 arg46
  let v3042 : Index := Scalar.indexCast v3026
  let c48_1449 : Index := 48#32
  ![v3042.toNat, 48]
def k1_off591 (v764 : BitVec 32) (v766 : BitVec 32) (k1_t41 : Fin (k1_t41_loop v764 v766).trips) (k1_t44 : Fin (k1_t44_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t44
  let v3026 : BitVec 32 := Scalar.addi v3015 arg46
  let v3047 : Index := Scalar.indexCast v3026
  let c64_1450 : Index := 64#32
  ![v3047.toNat, 64]
def k1_off592 (v764 : BitVec 32) (v766 : BitVec 32) (k1_t41 : Fin (k1_t41_loop v764 v766).trips) (k1_t44 : Fin (k1_t44_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t44
  let v3026 : BitVec 32 := Scalar.addi v3015 arg46
  let v3052 : Index := Scalar.indexCast v3026
  let c80_1451 : Index := 80#32
  ![v3052.toNat, 80]
def k1_off593 (v764 : BitVec 32) (v766 : BitVec 32) (k1_t41 : Fin (k1_t41_loop v764 v766).trips) (k1_t44 : Fin (k1_t44_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t44
  let v3026 : BitVec 32 := Scalar.addi v3015 arg46
  let v3057 : Index := Scalar.indexCast v3026
  let c96_1452 : Index := 96#32
  ![v3057.toNat, 96]
def k1_off594 (v764 : BitVec 32) (v766 : BitVec 32) (k1_t41 : Fin (k1_t41_loop v764 v766).trips) (k1_t44 : Fin (k1_t44_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t44
  let v3026 : BitVec 32 := Scalar.addi v3015 arg46
  let v3062 : Index := Scalar.indexCast v3026
  let c112_1453 : Index := 112#32
  ![v3062.toNat, 112]
def k1_off595 (v764 : BitVec 32) (v766 : BitVec 32) (k1_t41 : Fin (k1_t41_loop v764 v766).trips) (k1_t44 : Fin (k1_t44_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t44
  let v3026 : BitVec 32 := Scalar.addi v3015 arg46
  let v3067 : Index := Scalar.indexCast v3026
  let c128_1454 : Index := 128#32
  ![v3067.toNat, 128]
def k1_off596 (v764 : BitVec 32) (v766 : BitVec 32) (k1_t41 : Fin (k1_t41_loop v764 v766).trips) (k1_t44 : Fin (k1_t44_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t44
  let v3026 : BitVec 32 := Scalar.addi v3015 arg46
  let v3072 : Index := Scalar.indexCast v3026
  let c144_1455 : Index := 144#32
  ![v3072.toNat, 144]
def k1_off597 (v764 : BitVec 32) (v766 : BitVec 32) (k1_t41 : Fin (k1_t41_loop v764 v766).trips) (k1_t44 : Fin (k1_t44_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t44
  let v3026 : BitVec 32 := Scalar.addi v3015 arg46
  let v3077 : Index := Scalar.indexCast v3026
  let c160_1456 : Index := 160#32
  ![v3077.toNat, 160]
def k1_off598 (v764 : BitVec 32) (v766 : BitVec 32) (k1_t41 : Fin (k1_t41_loop v764 v766).trips) (k1_t44 : Fin (k1_t44_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t44
  let v3026 : BitVec 32 := Scalar.addi v3015 arg46
  let v3082 : Index := Scalar.indexCast v3026
  let c176_1457 : Index := 176#32
  ![v3082.toNat, 176]
def k1_off599 (v764 : BitVec 32) (v766 : BitVec 32) (k1_t41 : Fin (k1_t41_loop v764 v766).trips) (k1_t44 : Fin (k1_t44_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t44
  let v3026 : BitVec 32 := Scalar.addi v3015 arg46
  let v3087 : Index := Scalar.indexCast v3026
  let c192_1458 : Index := 192#32
  ![v3087.toNat, 192]
def k1_off600 (v764 : BitVec 32) (v766 : BitVec 32) (k1_t41 : Fin (k1_t41_loop v764 v766).trips) (k1_t44 : Fin (k1_t44_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t44
  let v3026 : BitVec 32 := Scalar.addi v3015 arg46
  let v3092 : Index := Scalar.indexCast v3026
  let c208_1459 : Index := 208#32
  ![v3092.toNat, 208]
def k1_off601 (v764 : BitVec 32) (v766 : BitVec 32) (k1_t41 : Fin (k1_t41_loop v764 v766).trips) (k1_t44 : Fin (k1_t44_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t44
  let v3026 : BitVec 32 := Scalar.addi v3015 arg46
  let v3097 : Index := Scalar.indexCast v3026
  let c224_1460 : Index := 224#32
  ![v3097.toNat, 224]
def k1_off602 (v764 : BitVec 32) (v766 : BitVec 32) (k1_t41 : Fin (k1_t41_loop v764 v766).trips) (k1_t44 : Fin (k1_t44_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t44
  let v3026 : BitVec 32 := Scalar.addi v3015 arg46
  let v3102 : Index := Scalar.indexCast v3026
  let c240_1461 : Index := 240#32
  ![v3102.toNat, 240]
@[reducible] def k1_t45_loop (v764 : BitVec 32) (v766 : BitVec 32) (k1_t41 : Fin (k1_t41_loop v764 v766).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off603 (v764 : BitVec 32) (v766 : BitVec 32) (k1_t41 : Fin (k1_t41_loop v764 v766).trips) (k1_t45 : Fin (k1_t45_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t45
  let v3026 : BitVec 32 := Scalar.addi v3015 arg46
  let v3027 : Index := Scalar.indexCast v3026
  let c0_1446 : Index := 0#32
  ![v3027.toNat, 0]
def k1_off604 (v764 : BitVec 32) (v766 : BitVec 32) (k1_t41 : Fin (k1_t41_loop v764 v766).trips) (k1_t45 : Fin (k1_t45_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t45
  let v3026 : BitVec 32 := Scalar.addi v3015 arg46
  let v3032 : Index := Scalar.indexCast v3026
  let c16_1447 : Index := 16#32
  ![v3032.toNat, 16]
def k1_off605 (v764 : BitVec 32) (v766 : BitVec 32) (k1_t41 : Fin (k1_t41_loop v764 v766).trips) (k1_t45 : Fin (k1_t45_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t45
  let v3026 : BitVec 32 := Scalar.addi v3015 arg46
  let v3037 : Index := Scalar.indexCast v3026
  let c32_1448 : Index := 32#32
  ![v3037.toNat, 32]
def k1_off606 (v764 : BitVec 32) (v766 : BitVec 32) (k1_t41 : Fin (k1_t41_loop v764 v766).trips) (k1_t45 : Fin (k1_t45_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t45
  let v3026 : BitVec 32 := Scalar.addi v3015 arg46
  let v3042 : Index := Scalar.indexCast v3026
  let c48_1449 : Index := 48#32
  ![v3042.toNat, 48]
def k1_off607 (v764 : BitVec 32) (v766 : BitVec 32) (k1_t41 : Fin (k1_t41_loop v764 v766).trips) (k1_t45 : Fin (k1_t45_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t45
  let v3026 : BitVec 32 := Scalar.addi v3015 arg46
  let v3047 : Index := Scalar.indexCast v3026
  let c64_1450 : Index := 64#32
  ![v3047.toNat, 64]
def k1_off608 (v764 : BitVec 32) (v766 : BitVec 32) (k1_t41 : Fin (k1_t41_loop v764 v766).trips) (k1_t45 : Fin (k1_t45_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t45
  let v3026 : BitVec 32 := Scalar.addi v3015 arg46
  let v3052 : Index := Scalar.indexCast v3026
  let c80_1451 : Index := 80#32
  ![v3052.toNat, 80]
def k1_off609 (v764 : BitVec 32) (v766 : BitVec 32) (k1_t41 : Fin (k1_t41_loop v764 v766).trips) (k1_t45 : Fin (k1_t45_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t45
  let v3026 : BitVec 32 := Scalar.addi v3015 arg46
  let v3057 : Index := Scalar.indexCast v3026
  let c96_1452 : Index := 96#32
  ![v3057.toNat, 96]
def k1_off610 (v764 : BitVec 32) (v766 : BitVec 32) (k1_t41 : Fin (k1_t41_loop v764 v766).trips) (k1_t45 : Fin (k1_t45_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t45
  let v3026 : BitVec 32 := Scalar.addi v3015 arg46
  let v3062 : Index := Scalar.indexCast v3026
  let c112_1453 : Index := 112#32
  ![v3062.toNat, 112]
def k1_off611 (v764 : BitVec 32) (v766 : BitVec 32) (k1_t41 : Fin (k1_t41_loop v764 v766).trips) (k1_t45 : Fin (k1_t45_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t45
  let v3026 : BitVec 32 := Scalar.addi v3015 arg46
  let v3067 : Index := Scalar.indexCast v3026
  let c128_1454 : Index := 128#32
  ![v3067.toNat, 128]
def k1_off612 (v764 : BitVec 32) (v766 : BitVec 32) (k1_t41 : Fin (k1_t41_loop v764 v766).trips) (k1_t45 : Fin (k1_t45_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t45
  let v3026 : BitVec 32 := Scalar.addi v3015 arg46
  let v3072 : Index := Scalar.indexCast v3026
  let c144_1455 : Index := 144#32
  ![v3072.toNat, 144]
def k1_off613 (v764 : BitVec 32) (v766 : BitVec 32) (k1_t41 : Fin (k1_t41_loop v764 v766).trips) (k1_t45 : Fin (k1_t45_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t45
  let v3026 : BitVec 32 := Scalar.addi v3015 arg46
  let v3077 : Index := Scalar.indexCast v3026
  let c160_1456 : Index := 160#32
  ![v3077.toNat, 160]
def k1_off614 (v764 : BitVec 32) (v766 : BitVec 32) (k1_t41 : Fin (k1_t41_loop v764 v766).trips) (k1_t45 : Fin (k1_t45_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t45
  let v3026 : BitVec 32 := Scalar.addi v3015 arg46
  let v3082 : Index := Scalar.indexCast v3026
  let c176_1457 : Index := 176#32
  ![v3082.toNat, 176]
def k1_off615 (v764 : BitVec 32) (v766 : BitVec 32) (k1_t41 : Fin (k1_t41_loop v764 v766).trips) (k1_t45 : Fin (k1_t45_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t45
  let v3026 : BitVec 32 := Scalar.addi v3015 arg46
  let v3087 : Index := Scalar.indexCast v3026
  let c192_1458 : Index := 192#32
  ![v3087.toNat, 192]
def k1_off616 (v764 : BitVec 32) (v766 : BitVec 32) (k1_t41 : Fin (k1_t41_loop v764 v766).trips) (k1_t45 : Fin (k1_t45_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t45
  let v3026 : BitVec 32 := Scalar.addi v3015 arg46
  let v3092 : Index := Scalar.indexCast v3026
  let c208_1459 : Index := 208#32
  ![v3092.toNat, 208]
def k1_off617 (v764 : BitVec 32) (v766 : BitVec 32) (k1_t41 : Fin (k1_t41_loop v764 v766).trips) (k1_t45 : Fin (k1_t45_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t45
  let v3026 : BitVec 32 := Scalar.addi v3015 arg46
  let v3097 : Index := Scalar.indexCast v3026
  let c224_1460 : Index := 224#32
  ![v3097.toNat, 224]
def k1_off618 (v764 : BitVec 32) (v766 : BitVec 32) (k1_t41 : Fin (k1_t41_loop v764 v766).trips) (k1_t45 : Fin (k1_t45_loop v764 v766 k1_t41).trips) : Fin 2 → Nat :=
  let c2_i32_1426 : BitVec 32 := 2#32
  let c0_i32_371 : BitVec 32 := 0#32
  let c1_i32_373 : BitVec 32 := 1#32
  let arg13 : BitVec 32 := Scf.iv c0_i32_371 c1_i32_373 k1_t41
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t45
  let v3026 : BitVec 32 := Scalar.addi v3015 arg46
  let v3102 : Index := Scalar.indexCast v3026
  let c240_1461 : Index := 240#32
  ![v3102.toNat, 240]
@[reducible] def k1_t46_loop (v764 : BitVec 32) (v766 : BitVec 32) : Scf.Loop 32 :=
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let v811 : BitVec 32 := Scalar.addi c0_i32_371 v810
  let c1_i32_374 : BitVec 32 := 1#32
  ⟨v814, v811, c1_i32_374⟩
def k1_off619 (i : grid1.Coords) (v764 : BitVec 32) (v766 : BitVec 32) (k1_t46 : Fin (k1_t46_loop v764 v766).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1446 : BitVec 32 := 64#32
  let v3026 : BitVec 32 := Scalar.muli v2949 c64_i32_1446
  let v3027 : BitVec 32 := Scalar.addi v764 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond42 (v764 : BitVec 32) (v766 : BitVec 32) (k1_t46 : Fin (k1_t46_loop v764 v766).trips) : BitVec 1 :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let v2950 : BitVec 1 := Scalar.cmpi .slt v2949 v788
  let v2951 : BitVec 32 := Scalar.extui v2950
  let c0_i32_1409 : BitVec 32 := 0#32
  let v2952 : BitVec 1 := Scalar.cmpi .ne v2951 c0_i32_1409
  v2952

def k1_off620 (i : grid1.Coords) (v764 : BitVec 32) (v766 : BitVec 32) (k1_t46 : Fin (k1_t46_loop v764 v766).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v764 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond43 (v764 : BitVec 32) (v766 : BitVec 32) (k1_t46 : Fin (k1_t46_loop v764 v766).trips) : BitVec 1 :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c1_i32_1456 : BitVec 32 := 1#32
  let v3049 : BitVec 32 := Scalar.addi v2949 c1_i32_1456
  let v3050 : BitVec 1 := Scalar.cmpi .slt v3049 v788
  let v3051 : BitVec 32 := Scalar.extui v3050
  let c0_i32_1457 : BitVec 32 := 0#32
  let v3052 : BitVec 1 := Scalar.cmpi .ne v3051 c0_i32_1457
  v3052

@[reducible] def k1_t47_loop (v764 : BitVec 32) (v766 : BitVec 32) (k1_t46 : Fin (k1_t46_loop v764 v766).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off621 (v764 : BitVec 32) (v766 : BitVec 32) (k1_t46 : Fin (k1_t46_loop v764 v766).trips) (k1_t47 : Fin (k1_t47_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t47
  let v3026 : BitVec 32 := Scalar.addi v2976 arg46
  let v3027 : Index := Scalar.indexCast v3026
  let c0_1446 : Index := 0#32
  ![v3027.toNat, 0]
def k1_off622 (v764 : BitVec 32) (v766 : BitVec 32) (k1_t46 : Fin (k1_t46_loop v764 v766).trips) (k1_t47 : Fin (k1_t47_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t47
  let v3026 : BitVec 32 := Scalar.addi v2976 arg46
  let v3032 : Index := Scalar.indexCast v3026
  let c16_1447 : Index := 16#32
  ![v3032.toNat, 16]
def k1_off623 (v764 : BitVec 32) (v766 : BitVec 32) (k1_t46 : Fin (k1_t46_loop v764 v766).trips) (k1_t47 : Fin (k1_t47_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t47
  let v3026 : BitVec 32 := Scalar.addi v2976 arg46
  let v3037 : Index := Scalar.indexCast v3026
  let c32_1448 : Index := 32#32
  ![v3037.toNat, 32]
def k1_off624 (v764 : BitVec 32) (v766 : BitVec 32) (k1_t46 : Fin (k1_t46_loop v764 v766).trips) (k1_t47 : Fin (k1_t47_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t47
  let v3026 : BitVec 32 := Scalar.addi v2976 arg46
  let v3042 : Index := Scalar.indexCast v3026
  let c48_1449 : Index := 48#32
  ![v3042.toNat, 48]
def k1_off625 (v764 : BitVec 32) (v766 : BitVec 32) (k1_t46 : Fin (k1_t46_loop v764 v766).trips) (k1_t47 : Fin (k1_t47_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t47
  let v3026 : BitVec 32 := Scalar.addi v2976 arg46
  let v3047 : Index := Scalar.indexCast v3026
  let c64_1450 : Index := 64#32
  ![v3047.toNat, 64]
def k1_off626 (v764 : BitVec 32) (v766 : BitVec 32) (k1_t46 : Fin (k1_t46_loop v764 v766).trips) (k1_t47 : Fin (k1_t47_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t47
  let v3026 : BitVec 32 := Scalar.addi v2976 arg46
  let v3052 : Index := Scalar.indexCast v3026
  let c80_1451 : Index := 80#32
  ![v3052.toNat, 80]
def k1_off627 (v764 : BitVec 32) (v766 : BitVec 32) (k1_t46 : Fin (k1_t46_loop v764 v766).trips) (k1_t47 : Fin (k1_t47_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t47
  let v3026 : BitVec 32 := Scalar.addi v2976 arg46
  let v3057 : Index := Scalar.indexCast v3026
  let c96_1452 : Index := 96#32
  ![v3057.toNat, 96]
def k1_off628 (v764 : BitVec 32) (v766 : BitVec 32) (k1_t46 : Fin (k1_t46_loop v764 v766).trips) (k1_t47 : Fin (k1_t47_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t47
  let v3026 : BitVec 32 := Scalar.addi v2976 arg46
  let v3062 : Index := Scalar.indexCast v3026
  let c112_1453 : Index := 112#32
  ![v3062.toNat, 112]
def k1_off629 (v764 : BitVec 32) (v766 : BitVec 32) (k1_t46 : Fin (k1_t46_loop v764 v766).trips) (k1_t47 : Fin (k1_t47_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t47
  let v3026 : BitVec 32 := Scalar.addi v2976 arg46
  let v3067 : Index := Scalar.indexCast v3026
  let c128_1454 : Index := 128#32
  ![v3067.toNat, 128]
def k1_off630 (v764 : BitVec 32) (v766 : BitVec 32) (k1_t46 : Fin (k1_t46_loop v764 v766).trips) (k1_t47 : Fin (k1_t47_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t47
  let v3026 : BitVec 32 := Scalar.addi v2976 arg46
  let v3072 : Index := Scalar.indexCast v3026
  let c144_1455 : Index := 144#32
  ![v3072.toNat, 144]
def k1_off631 (v764 : BitVec 32) (v766 : BitVec 32) (k1_t46 : Fin (k1_t46_loop v764 v766).trips) (k1_t47 : Fin (k1_t47_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t47
  let v3026 : BitVec 32 := Scalar.addi v2976 arg46
  let v3077 : Index := Scalar.indexCast v3026
  let c160_1456 : Index := 160#32
  ![v3077.toNat, 160]
def k1_off632 (v764 : BitVec 32) (v766 : BitVec 32) (k1_t46 : Fin (k1_t46_loop v764 v766).trips) (k1_t47 : Fin (k1_t47_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t47
  let v3026 : BitVec 32 := Scalar.addi v2976 arg46
  let v3082 : Index := Scalar.indexCast v3026
  let c176_1457 : Index := 176#32
  ![v3082.toNat, 176]
def k1_off633 (v764 : BitVec 32) (v766 : BitVec 32) (k1_t46 : Fin (k1_t46_loop v764 v766).trips) (k1_t47 : Fin (k1_t47_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t47
  let v3026 : BitVec 32 := Scalar.addi v2976 arg46
  let v3087 : Index := Scalar.indexCast v3026
  let c192_1458 : Index := 192#32
  ![v3087.toNat, 192]
def k1_off634 (v764 : BitVec 32) (v766 : BitVec 32) (k1_t46 : Fin (k1_t46_loop v764 v766).trips) (k1_t47 : Fin (k1_t47_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t47
  let v3026 : BitVec 32 := Scalar.addi v2976 arg46
  let v3092 : Index := Scalar.indexCast v3026
  let c208_1459 : Index := 208#32
  ![v3092.toNat, 208]
def k1_off635 (v764 : BitVec 32) (v766 : BitVec 32) (k1_t46 : Fin (k1_t46_loop v764 v766).trips) (k1_t47 : Fin (k1_t47_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t47
  let v3026 : BitVec 32 := Scalar.addi v2976 arg46
  let v3097 : Index := Scalar.indexCast v3026
  let c224_1460 : Index := 224#32
  ![v3097.toNat, 224]
def k1_off636 (v764 : BitVec 32) (v766 : BitVec 32) (k1_t46 : Fin (k1_t46_loop v764 v766).trips) (k1_t47 : Fin (k1_t47_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t47
  let v3026 : BitVec 32 := Scalar.addi v2976 arg46
  let v3102 : Index := Scalar.indexCast v3026
  let c240_1461 : Index := 240#32
  ![v3102.toNat, 240]
@[reducible] def k1_t48_loop (v764 : BitVec 32) (v766 : BitVec 32) (k1_t46 : Fin (k1_t46_loop v764 v766).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off637 (v764 : BitVec 32) (v766 : BitVec 32) (k1_t46 : Fin (k1_t46_loop v764 v766).trips) (k1_t48 : Fin (k1_t48_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t48
  let v3026 : BitVec 32 := Scalar.addi v2976 arg46
  let v3027 : Index := Scalar.indexCast v3026
  let c0_1446 : Index := 0#32
  ![v3027.toNat, 0]
def k1_off638 (v764 : BitVec 32) (v766 : BitVec 32) (k1_t46 : Fin (k1_t46_loop v764 v766).trips) (k1_t48 : Fin (k1_t48_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t48
  let v3026 : BitVec 32 := Scalar.addi v2976 arg46
  let v3032 : Index := Scalar.indexCast v3026
  let c16_1447 : Index := 16#32
  ![v3032.toNat, 16]
def k1_off639 (v764 : BitVec 32) (v766 : BitVec 32) (k1_t46 : Fin (k1_t46_loop v764 v766).trips) (k1_t48 : Fin (k1_t48_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t48
  let v3026 : BitVec 32 := Scalar.addi v2976 arg46
  let v3037 : Index := Scalar.indexCast v3026
  let c32_1448 : Index := 32#32
  ![v3037.toNat, 32]
def k1_off640 (v764 : BitVec 32) (v766 : BitVec 32) (k1_t46 : Fin (k1_t46_loop v764 v766).trips) (k1_t48 : Fin (k1_t48_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t48
  let v3026 : BitVec 32 := Scalar.addi v2976 arg46
  let v3042 : Index := Scalar.indexCast v3026
  let c48_1449 : Index := 48#32
  ![v3042.toNat, 48]
def k1_off641 (v764 : BitVec 32) (v766 : BitVec 32) (k1_t46 : Fin (k1_t46_loop v764 v766).trips) (k1_t48 : Fin (k1_t48_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t48
  let v3026 : BitVec 32 := Scalar.addi v2976 arg46
  let v3047 : Index := Scalar.indexCast v3026
  let c64_1450 : Index := 64#32
  ![v3047.toNat, 64]
def k1_off642 (v764 : BitVec 32) (v766 : BitVec 32) (k1_t46 : Fin (k1_t46_loop v764 v766).trips) (k1_t48 : Fin (k1_t48_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t48
  let v3026 : BitVec 32 := Scalar.addi v2976 arg46
  let v3052 : Index := Scalar.indexCast v3026
  let c80_1451 : Index := 80#32
  ![v3052.toNat, 80]
def k1_off643 (v764 : BitVec 32) (v766 : BitVec 32) (k1_t46 : Fin (k1_t46_loop v764 v766).trips) (k1_t48 : Fin (k1_t48_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t48
  let v3026 : BitVec 32 := Scalar.addi v2976 arg46
  let v3057 : Index := Scalar.indexCast v3026
  let c96_1452 : Index := 96#32
  ![v3057.toNat, 96]
def k1_off644 (v764 : BitVec 32) (v766 : BitVec 32) (k1_t46 : Fin (k1_t46_loop v764 v766).trips) (k1_t48 : Fin (k1_t48_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t48
  let v3026 : BitVec 32 := Scalar.addi v2976 arg46
  let v3062 : Index := Scalar.indexCast v3026
  let c112_1453 : Index := 112#32
  ![v3062.toNat, 112]
def k1_off645 (v764 : BitVec 32) (v766 : BitVec 32) (k1_t46 : Fin (k1_t46_loop v764 v766).trips) (k1_t48 : Fin (k1_t48_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t48
  let v3026 : BitVec 32 := Scalar.addi v2976 arg46
  let v3067 : Index := Scalar.indexCast v3026
  let c128_1454 : Index := 128#32
  ![v3067.toNat, 128]
def k1_off646 (v764 : BitVec 32) (v766 : BitVec 32) (k1_t46 : Fin (k1_t46_loop v764 v766).trips) (k1_t48 : Fin (k1_t48_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t48
  let v3026 : BitVec 32 := Scalar.addi v2976 arg46
  let v3072 : Index := Scalar.indexCast v3026
  let c144_1455 : Index := 144#32
  ![v3072.toNat, 144]
def k1_off647 (v764 : BitVec 32) (v766 : BitVec 32) (k1_t46 : Fin (k1_t46_loop v764 v766).trips) (k1_t48 : Fin (k1_t48_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t48
  let v3026 : BitVec 32 := Scalar.addi v2976 arg46
  let v3077 : Index := Scalar.indexCast v3026
  let c160_1456 : Index := 160#32
  ![v3077.toNat, 160]
def k1_off648 (v764 : BitVec 32) (v766 : BitVec 32) (k1_t46 : Fin (k1_t46_loop v764 v766).trips) (k1_t48 : Fin (k1_t48_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t48
  let v3026 : BitVec 32 := Scalar.addi v2976 arg46
  let v3082 : Index := Scalar.indexCast v3026
  let c176_1457 : Index := 176#32
  ![v3082.toNat, 176]
def k1_off649 (v764 : BitVec 32) (v766 : BitVec 32) (k1_t46 : Fin (k1_t46_loop v764 v766).trips) (k1_t48 : Fin (k1_t48_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t48
  let v3026 : BitVec 32 := Scalar.addi v2976 arg46
  let v3087 : Index := Scalar.indexCast v3026
  let c192_1458 : Index := 192#32
  ![v3087.toNat, 192]
def k1_off650 (v764 : BitVec 32) (v766 : BitVec 32) (k1_t46 : Fin (k1_t46_loop v764 v766).trips) (k1_t48 : Fin (k1_t48_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t48
  let v3026 : BitVec 32 := Scalar.addi v2976 arg46
  let v3092 : Index := Scalar.indexCast v3026
  let c208_1459 : Index := 208#32
  ![v3092.toNat, 208]
def k1_off651 (v764 : BitVec 32) (v766 : BitVec 32) (k1_t46 : Fin (k1_t46_loop v764 v766).trips) (k1_t48 : Fin (k1_t48_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t48
  let v3026 : BitVec 32 := Scalar.addi v2976 arg46
  let v3097 : Index := Scalar.indexCast v3026
  let c224_1460 : Index := 224#32
  ![v3097.toNat, 224]
def k1_off652 (v764 : BitVec 32) (v766 : BitVec 32) (k1_t46 : Fin (k1_t46_loop v764 v766).trips) (k1_t48 : Fin (k1_t48_loop v764 v766 k1_t46).trips) : Fin 2 → Nat :=
  let c2_i32_1408 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2949 : BitVec 32 := Scalar.muli c2_i32_1408 arg13
  let c64_i32_1410 : BitVec 32 := 64#32
  let v2953 : BitVec 32 := Scalar.muli v2949 c64_i32_1410
  let v2954 : BitVec 32 := Scalar.addi v764 v2953
  let c64_i32_1411 : BitVec 32 := 64#32
  let v2955 : BitVec 32 := Scalar.muli v2949 c64_i32_1411
  let v2956 : BitVec 32 := Scalar.addi v764 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v766 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t48
  let v3026 : BitVec 32 := Scalar.addi v2976 arg46
  let v3102 : Index := Scalar.indexCast v3026
  let c240_1461 : Index := 240#32
  ![v3102.toNat, 240]
def k1_off653 (i : grid1.Coords) (v764 : BitVec 32) (v766 : BitVec 32) (k1_t46 : Fin (k1_t46_loop v764 v766).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v764 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond44 (v764 : BitVec 32) (v766 : BitVec 32) (k1_t46 : Fin (k1_t46_loop v764 v766).trips) : BitVec 1 :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let v2989 : BitVec 1 := Scalar.cmpi .slt v2988 v788
  let v2990 : BitVec 32 := Scalar.extui v2989
  let c0_i32_1428 : BitVec 32 := 0#32
  let v2991 : BitVec 1 := Scalar.cmpi .ne v2990 c0_i32_1428
  v2991

def k1_off654 (i : grid1.Coords) (v764 : BitVec 32) (v766 : BitVec 32) (k1_t46 : Fin (k1_t46_loop v764 v766).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v764 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond45 (v764 : BitVec 32) (v766 : BitVec 32) (k1_t46 : Fin (k1_t46_loop v764 v766).trips) : BitVec 1 :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v3050 : BitVec 1 := Scalar.cmpi .slt v3049 v788
  let v3051 : BitVec 32 := Scalar.extui v3050
  let c0_i32_1457 : BitVec 32 := 0#32
  let v3052 : BitVec 1 := Scalar.cmpi .ne v3051 c0_i32_1457
  v3052

@[reducible] def k1_t49_loop (v764 : BitVec 32) (v766 : BitVec 32) (k1_t46 : Fin (k1_t46_loop v764 v766).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off655 (v764 : BitVec 32) (v766 : BitVec 32) (k1_t46 : Fin (k1_t46_loop v764 v766).trips) (k1_t49 : Fin (k1_t49_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t49
  let v3026 : BitVec 32 := Scalar.addi v3015 arg46
  let v3027 : Index := Scalar.indexCast v3026
  let c0_1446 : Index := 0#32
  ![v3027.toNat, 0]
def k1_off656 (v764 : BitVec 32) (v766 : BitVec 32) (k1_t46 : Fin (k1_t46_loop v764 v766).trips) (k1_t49 : Fin (k1_t49_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t49
  let v3026 : BitVec 32 := Scalar.addi v3015 arg46
  let v3032 : Index := Scalar.indexCast v3026
  let c16_1447 : Index := 16#32
  ![v3032.toNat, 16]
def k1_off657 (v764 : BitVec 32) (v766 : BitVec 32) (k1_t46 : Fin (k1_t46_loop v764 v766).trips) (k1_t49 : Fin (k1_t49_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t49
  let v3026 : BitVec 32 := Scalar.addi v3015 arg46
  let v3037 : Index := Scalar.indexCast v3026
  let c32_1448 : Index := 32#32
  ![v3037.toNat, 32]
def k1_off658 (v764 : BitVec 32) (v766 : BitVec 32) (k1_t46 : Fin (k1_t46_loop v764 v766).trips) (k1_t49 : Fin (k1_t49_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t49
  let v3026 : BitVec 32 := Scalar.addi v3015 arg46
  let v3042 : Index := Scalar.indexCast v3026
  let c48_1449 : Index := 48#32
  ![v3042.toNat, 48]
def k1_off659 (v764 : BitVec 32) (v766 : BitVec 32) (k1_t46 : Fin (k1_t46_loop v764 v766).trips) (k1_t49 : Fin (k1_t49_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t49
  let v3026 : BitVec 32 := Scalar.addi v3015 arg46
  let v3047 : Index := Scalar.indexCast v3026
  let c64_1450 : Index := 64#32
  ![v3047.toNat, 64]
def k1_off660 (v764 : BitVec 32) (v766 : BitVec 32) (k1_t46 : Fin (k1_t46_loop v764 v766).trips) (k1_t49 : Fin (k1_t49_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t49
  let v3026 : BitVec 32 := Scalar.addi v3015 arg46
  let v3052 : Index := Scalar.indexCast v3026
  let c80_1451 : Index := 80#32
  ![v3052.toNat, 80]
def k1_off661 (v764 : BitVec 32) (v766 : BitVec 32) (k1_t46 : Fin (k1_t46_loop v764 v766).trips) (k1_t49 : Fin (k1_t49_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t49
  let v3026 : BitVec 32 := Scalar.addi v3015 arg46
  let v3057 : Index := Scalar.indexCast v3026
  let c96_1452 : Index := 96#32
  ![v3057.toNat, 96]
def k1_off662 (v764 : BitVec 32) (v766 : BitVec 32) (k1_t46 : Fin (k1_t46_loop v764 v766).trips) (k1_t49 : Fin (k1_t49_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t49
  let v3026 : BitVec 32 := Scalar.addi v3015 arg46
  let v3062 : Index := Scalar.indexCast v3026
  let c112_1453 : Index := 112#32
  ![v3062.toNat, 112]
def k1_off663 (v764 : BitVec 32) (v766 : BitVec 32) (k1_t46 : Fin (k1_t46_loop v764 v766).trips) (k1_t49 : Fin (k1_t49_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t49
  let v3026 : BitVec 32 := Scalar.addi v3015 arg46
  let v3067 : Index := Scalar.indexCast v3026
  let c128_1454 : Index := 128#32
  ![v3067.toNat, 128]
def k1_off664 (v764 : BitVec 32) (v766 : BitVec 32) (k1_t46 : Fin (k1_t46_loop v764 v766).trips) (k1_t49 : Fin (k1_t49_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t49
  let v3026 : BitVec 32 := Scalar.addi v3015 arg46
  let v3072 : Index := Scalar.indexCast v3026
  let c144_1455 : Index := 144#32
  ![v3072.toNat, 144]
def k1_off665 (v764 : BitVec 32) (v766 : BitVec 32) (k1_t46 : Fin (k1_t46_loop v764 v766).trips) (k1_t49 : Fin (k1_t49_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t49
  let v3026 : BitVec 32 := Scalar.addi v3015 arg46
  let v3077 : Index := Scalar.indexCast v3026
  let c160_1456 : Index := 160#32
  ![v3077.toNat, 160]
def k1_off666 (v764 : BitVec 32) (v766 : BitVec 32) (k1_t46 : Fin (k1_t46_loop v764 v766).trips) (k1_t49 : Fin (k1_t49_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t49
  let v3026 : BitVec 32 := Scalar.addi v3015 arg46
  let v3082 : Index := Scalar.indexCast v3026
  let c176_1457 : Index := 176#32
  ![v3082.toNat, 176]
def k1_off667 (v764 : BitVec 32) (v766 : BitVec 32) (k1_t46 : Fin (k1_t46_loop v764 v766).trips) (k1_t49 : Fin (k1_t49_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t49
  let v3026 : BitVec 32 := Scalar.addi v3015 arg46
  let v3087 : Index := Scalar.indexCast v3026
  let c192_1458 : Index := 192#32
  ![v3087.toNat, 192]
def k1_off668 (v764 : BitVec 32) (v766 : BitVec 32) (k1_t46 : Fin (k1_t46_loop v764 v766).trips) (k1_t49 : Fin (k1_t49_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t49
  let v3026 : BitVec 32 := Scalar.addi v3015 arg46
  let v3092 : Index := Scalar.indexCast v3026
  let c208_1459 : Index := 208#32
  ![v3092.toNat, 208]
def k1_off669 (v764 : BitVec 32) (v766 : BitVec 32) (k1_t46 : Fin (k1_t46_loop v764 v766).trips) (k1_t49 : Fin (k1_t49_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t49
  let v3026 : BitVec 32 := Scalar.addi v3015 arg46
  let v3097 : Index := Scalar.indexCast v3026
  let c224_1460 : Index := 224#32
  ![v3097.toNat, 224]
def k1_off670 (v764 : BitVec 32) (v766 : BitVec 32) (k1_t46 : Fin (k1_t46_loop v764 v766).trips) (k1_t49 : Fin (k1_t49_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t49
  let v3026 : BitVec 32 := Scalar.addi v3015 arg46
  let v3102 : Index := Scalar.indexCast v3026
  let c240_1461 : Index := 240#32
  ![v3102.toNat, 240]
@[reducible] def k1_t50_loop (v764 : BitVec 32) (v766 : BitVec 32) (k1_t46 : Fin (k1_t46_loop v764 v766).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off671 (v764 : BitVec 32) (v766 : BitVec 32) (k1_t46 : Fin (k1_t46_loop v764 v766).trips) (k1_t50 : Fin (k1_t50_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t50
  let v3026 : BitVec 32 := Scalar.addi v3015 arg46
  let v3027 : Index := Scalar.indexCast v3026
  let c0_1446 : Index := 0#32
  ![v3027.toNat, 0]
def k1_off672 (v764 : BitVec 32) (v766 : BitVec 32) (k1_t46 : Fin (k1_t46_loop v764 v766).trips) (k1_t50 : Fin (k1_t50_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t50
  let v3026 : BitVec 32 := Scalar.addi v3015 arg46
  let v3032 : Index := Scalar.indexCast v3026
  let c16_1447 : Index := 16#32
  ![v3032.toNat, 16]
def k1_off673 (v764 : BitVec 32) (v766 : BitVec 32) (k1_t46 : Fin (k1_t46_loop v764 v766).trips) (k1_t50 : Fin (k1_t50_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t50
  let v3026 : BitVec 32 := Scalar.addi v3015 arg46
  let v3037 : Index := Scalar.indexCast v3026
  let c32_1448 : Index := 32#32
  ![v3037.toNat, 32]
def k1_off674 (v764 : BitVec 32) (v766 : BitVec 32) (k1_t46 : Fin (k1_t46_loop v764 v766).trips) (k1_t50 : Fin (k1_t50_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t50
  let v3026 : BitVec 32 := Scalar.addi v3015 arg46
  let v3042 : Index := Scalar.indexCast v3026
  let c48_1449 : Index := 48#32
  ![v3042.toNat, 48]
def k1_off675 (v764 : BitVec 32) (v766 : BitVec 32) (k1_t46 : Fin (k1_t46_loop v764 v766).trips) (k1_t50 : Fin (k1_t50_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t50
  let v3026 : BitVec 32 := Scalar.addi v3015 arg46
  let v3047 : Index := Scalar.indexCast v3026
  let c64_1450 : Index := 64#32
  ![v3047.toNat, 64]
def k1_off676 (v764 : BitVec 32) (v766 : BitVec 32) (k1_t46 : Fin (k1_t46_loop v764 v766).trips) (k1_t50 : Fin (k1_t50_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t50
  let v3026 : BitVec 32 := Scalar.addi v3015 arg46
  let v3052 : Index := Scalar.indexCast v3026
  let c80_1451 : Index := 80#32
  ![v3052.toNat, 80]
def k1_off677 (v764 : BitVec 32) (v766 : BitVec 32) (k1_t46 : Fin (k1_t46_loop v764 v766).trips) (k1_t50 : Fin (k1_t50_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t50
  let v3026 : BitVec 32 := Scalar.addi v3015 arg46
  let v3057 : Index := Scalar.indexCast v3026
  let c96_1452 : Index := 96#32
  ![v3057.toNat, 96]
def k1_off678 (v764 : BitVec 32) (v766 : BitVec 32) (k1_t46 : Fin (k1_t46_loop v764 v766).trips) (k1_t50 : Fin (k1_t50_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t50
  let v3026 : BitVec 32 := Scalar.addi v3015 arg46
  let v3062 : Index := Scalar.indexCast v3026
  let c112_1453 : Index := 112#32
  ![v3062.toNat, 112]
def k1_off679 (v764 : BitVec 32) (v766 : BitVec 32) (k1_t46 : Fin (k1_t46_loop v764 v766).trips) (k1_t50 : Fin (k1_t50_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t50
  let v3026 : BitVec 32 := Scalar.addi v3015 arg46
  let v3067 : Index := Scalar.indexCast v3026
  let c128_1454 : Index := 128#32
  ![v3067.toNat, 128]
def k1_off680 (v764 : BitVec 32) (v766 : BitVec 32) (k1_t46 : Fin (k1_t46_loop v764 v766).trips) (k1_t50 : Fin (k1_t50_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t50
  let v3026 : BitVec 32 := Scalar.addi v3015 arg46
  let v3072 : Index := Scalar.indexCast v3026
  let c144_1455 : Index := 144#32
  ![v3072.toNat, 144]
def k1_off681 (v764 : BitVec 32) (v766 : BitVec 32) (k1_t46 : Fin (k1_t46_loop v764 v766).trips) (k1_t50 : Fin (k1_t50_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t50
  let v3026 : BitVec 32 := Scalar.addi v3015 arg46
  let v3077 : Index := Scalar.indexCast v3026
  let c160_1456 : Index := 160#32
  ![v3077.toNat, 160]
def k1_off682 (v764 : BitVec 32) (v766 : BitVec 32) (k1_t46 : Fin (k1_t46_loop v764 v766).trips) (k1_t50 : Fin (k1_t50_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t50
  let v3026 : BitVec 32 := Scalar.addi v3015 arg46
  let v3082 : Index := Scalar.indexCast v3026
  let c176_1457 : Index := 176#32
  ![v3082.toNat, 176]
def k1_off683 (v764 : BitVec 32) (v766 : BitVec 32) (k1_t46 : Fin (k1_t46_loop v764 v766).trips) (k1_t50 : Fin (k1_t50_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t50
  let v3026 : BitVec 32 := Scalar.addi v3015 arg46
  let v3087 : Index := Scalar.indexCast v3026
  let c192_1458 : Index := 192#32
  ![v3087.toNat, 192]
def k1_off684 (v764 : BitVec 32) (v766 : BitVec 32) (k1_t46 : Fin (k1_t46_loop v764 v766).trips) (k1_t50 : Fin (k1_t50_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t50
  let v3026 : BitVec 32 := Scalar.addi v3015 arg46
  let v3092 : Index := Scalar.indexCast v3026
  let c208_1459 : Index := 208#32
  ![v3092.toNat, 208]
def k1_off685 (v764 : BitVec 32) (v766 : BitVec 32) (k1_t46 : Fin (k1_t46_loop v764 v766).trips) (k1_t50 : Fin (k1_t50_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t50
  let v3026 : BitVec 32 := Scalar.addi v3015 arg46
  let v3097 : Index := Scalar.indexCast v3026
  let c224_1460 : Index := 224#32
  ![v3097.toNat, 224]
def k1_off686 (v764 : BitVec 32) (v766 : BitVec 32) (k1_t46 : Fin (k1_t46_loop v764 v766).trips) (k1_t50 : Fin (k1_t50_loop v764 v766 k1_t46).trips) : Fin 2 → Nat :=
  let c2_i32_1426 : BitVec 32 := 2#32
  let c0_i32_371 : BitVec 32 := 0#32
  let v769 : BitVec 32 := Scalar.subi v766 v764
  let c64_i32_352 : BitVec 32 := 64#32
  let v770 : BitVec 32 := Scalar.addi v769 c64_i32_352
  let c1_i32_353 : BitVec 32 := 1#32
  let v771 : BitVec 32 := Scalar.subi v770 c1_i32_353
  let c0_i32_355 : BitVec 32 := 0#32
  let v773 : BitVec 1 := Scalar.cmpi .sgt v771 c0_i32_355
  let v774 : BitVec 32 := Scalar.extui v773
  let c0_i32_356 : BitVec 32 := 0#32
  let v775 : BitVec 1 := Scalar.cmpi .slt v771 c0_i32_356
  let v776 : BitVec 32 := Scalar.extui v775
  let v777 : BitVec 32 := Scalar.subi v774 v776
  let c64_i32_354 : BitVec 32 := 64#32
  let c0_i32_357 : BitVec 32 := 0#32
  let v778 : BitVec 1 := Scalar.cmpi .sgt c64_i32_354 c0_i32_357
  let v779 : BitVec 32 := Scalar.extui v778
  let c0_i32_358 : BitVec 32 := 0#32
  let v780 : BitVec 1 := Scalar.cmpi .slt c64_i32_354 c0_i32_358
  let v781 : BitVec 32 := Scalar.extui v780
  let v782 : BitVec 32 := Scalar.subi v779 v781
  let v783 : BitVec 1 := Scalar.cmpi .ne v777 v782
  let v784 : BitVec 32 := Scalar.remsi v771 c64_i32_354
  let c0_i32_359 : BitVec 32 := 0#32
  let v785 : BitVec 1 := Scalar.cmpi .ne v784 c0_i32_359
  let v786 : BitVec 1 := Scalar.andi v783 v785
  let v772 : BitVec 32 := Scalar.divsi v771 c64_i32_354
  let c1_i32_360 : BitVec 32 := 1#32
  let v787 : BitVec 32 := Scalar.subi v772 c1_i32_360
  let v788 : BitVec 32 := Scalar.select v786 v787 v772
  let c1_i32_363 : BitVec 32 := 1#32
  let v792 : BitVec 32 := Scalar.addi v788 c1_i32_363
  let c0_i32_365 : BitVec 32 := 0#32
  let v794 : BitVec 1 := Scalar.cmpi .sgt v792 c0_i32_365
  let v795 : BitVec 32 := Scalar.extui v794
  let c0_i32_366 : BitVec 32 := 0#32
  let v796 : BitVec 1 := Scalar.cmpi .slt v792 c0_i32_366
  let v797 : BitVec 32 := Scalar.extui v796
  let v798 : BitVec 32 := Scalar.subi v795 v797
  let c2_i32_364 : BitVec 32 := 2#32
  let c0_i32_367 : BitVec 32 := 0#32
  let v799 : BitVec 1 := Scalar.cmpi .sgt c2_i32_364 c0_i32_367
  let v800 : BitVec 32 := Scalar.extui v799
  let c0_i32_368 : BitVec 32 := 0#32
  let v801 : BitVec 1 := Scalar.cmpi .slt c2_i32_364 c0_i32_368
  let v802 : BitVec 32 := Scalar.extui v801
  let v803 : BitVec 32 := Scalar.subi v800 v802
  let v804 : BitVec 1 := Scalar.cmpi .ne v798 v803
  let v805 : BitVec 32 := Scalar.remsi v792 c2_i32_364
  let c0_i32_369 : BitVec 32 := 0#32
  let v806 : BitVec 1 := Scalar.cmpi .ne v805 c0_i32_369
  let v807 : BitVec 1 := Scalar.andi v804 v806
  let v793 : BitVec 32 := Scalar.divsi v792 c2_i32_364
  let c1_i32_370 : BitVec 32 := 1#32
  let v808 : BitVec 32 := Scalar.subi v793 c1_i32_370
  let v809 : BitVec 32 := Scalar.select v807 v808 v793
  let v810 : BitVec 32 := Scalar.subi v809 c0_i32_371
  let c1_i32_372 : BitVec 32 := 1#32
  let v812 : BitVec 32 := Scalar.divsi v810 c1_i32_372
  let v813 : BitVec 32 := Scalar.muli v812 c1_i32_372
  let v814 : BitVec 32 := Scalar.addi c0_i32_371 v813
  let c1_i32_374 : BitVec 32 := 1#32
  let arg13 : BitVec 32 := Scf.iv v814 c1_i32_374 k1_t46
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v764 v2992
  let c64_i32_1430 : BitVec 32 := 64#32
  let v2994 : BitVec 32 := Scalar.muli v2988 c64_i32_1430
  let v2995 : BitVec 32 := Scalar.addi v764 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v766 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t50
  let v3026 : BitVec 32 := Scalar.addi v3015 arg46
  let v3102 : Index := Scalar.indexCast v3026
  let c240_1461 : Index := 240#32
  ![v3102.toNat, 240]

def k1_chk5_0 (i : grid1.Coords) (v764 : BitVec 32) (v766 : BitVec 32) : Prop :=
  (∀ (k1_h37 : k1_cond37 v764 v766 = 1#1), ∀ a, (k1_off550 i v764) a + S72x256.size a ≤ S100000x512.size a) ∧
  ((k1_t41_loop v764 v766).OK) ∧
  (∀ k1_t41 : Fin (k1_t41_loop v764 v766).trips, ∀ (k1_h38 : k1_cond38 v764 v766 k1_t41 = 1#1), ∀ a, (k1_off551 i v764 v766 k1_t41) a + S72x256.size a ≤ S100000x512.size a) ∧
  (∀ k1_t41 : Fin (k1_t41_loop v764 v766).trips, ∀ (k1_h38 : k1_cond38 v764 v766 k1_t41 = 1#1), ∀ (k1_h39 : k1_cond39 v764 v766 k1_t41 = 1#1), ∀ a, (k1_off552 i v764 v766 k1_t41) a + S72x256.size a ≤ S100000x512.size a) ∧
  (∀ k1_t41 : Fin (k1_t41_loop v764 v766).trips, (k1_t42_loop v764 v766 k1_t41).OK) ∧
  (∀ (k1_t41 : Fin (k1_t41_loop v764 v766).trips) (k1_t42 : Fin (k1_t42_loop v764 v766 k1_t41).trips), ∀ a, (k1_off553 v764 v766 k1_t41 k1_t42) a + S1x16.size a ≤ S72x256.size a) ∧
  (∀ (k1_t41 : Fin (k1_t41_loop v764 v766).trips) (k1_t42 : Fin (k1_t42_loop v764 v766 k1_t41).trips), ∀ a, (k1_off554 v764 v766 k1_t41 k1_t42) a + S1x16.size a ≤ S72x256.size a) ∧
  (∀ (k1_t41 : Fin (k1_t41_loop v764 v766).trips) (k1_t42 : Fin (k1_t42_loop v764 v766 k1_t41).trips), ∀ a, (k1_off555 v764 v766 k1_t41 k1_t42) a + S1x16.size a ≤ S72x256.size a) ∧
  (∀ (k1_t41 : Fin (k1_t41_loop v764 v766).trips) (k1_t42 : Fin (k1_t42_loop v764 v766 k1_t41).trips), ∀ a, (k1_off556 v764 v766 k1_t41 k1_t42) a + S1x16.size a ≤ S72x256.size a) ∧
  (∀ (k1_t41 : Fin (k1_t41_loop v764 v766).trips) (k1_t42 : Fin (k1_t42_loop v764 v766 k1_t41).trips), ∀ a, (k1_off557 v764 v766 k1_t41 k1_t42) a + S1x16.size a ≤ S72x256.size a) ∧
  (∀ (k1_t41 : Fin (k1_t41_loop v764 v766).trips) (k1_t42 : Fin (k1_t42_loop v764 v766 k1_t41).trips), ∀ a, (k1_off558 v764 v766 k1_t41 k1_t42) a + S1x16.size a ≤ S72x256.size a) ∧
  (∀ (k1_t41 : Fin (k1_t41_loop v764 v766).trips) (k1_t42 : Fin (k1_t42_loop v764 v766 k1_t41).trips), ∀ a, (k1_off559 v764 v766 k1_t41 k1_t42) a + S1x16.size a ≤ S72x256.size a) ∧
  (∀ (k1_t41 : Fin (k1_t41_loop v764 v766).trips) (k1_t42 : Fin (k1_t42_loop v764 v766 k1_t41).trips), ∀ a, (k1_off560 v764 v766 k1_t41 k1_t42) a + S1x16.size a ≤ S72x256.size a) ∧
  (∀ (k1_t41 : Fin (k1_t41_loop v764 v766).trips) (k1_t42 : Fin (k1_t42_loop v764 v766 k1_t41).trips), ∀ a, (k1_off561 v764 v766 k1_t41 k1_t42) a + S1x16.size a ≤ S72x256.size a) ∧
  (∀ (k1_t41 : Fin (k1_t41_loop v764 v766).trips) (k1_t42 : Fin (k1_t42_loop v764 v766 k1_t41).trips), ∀ a, (k1_off562 v764 v766 k1_t41 k1_t42) a + S1x16.size a ≤ S72x256.size a) ∧
  (∀ (k1_t41 : Fin (k1_t41_loop v764 v766).trips) (k1_t42 : Fin (k1_t42_loop v764 v766 k1_t41).trips), ∀ a, (k1_off563 v764 v766 k1_t41 k1_t42) a + S1x16.size a ≤ S72x256.size a) ∧
  (∀ (k1_t41 : Fin (k1_t41_loop v764 v766).trips) (k1_t42 : Fin (k1_t42_loop v764 v766 k1_t41).trips), ∀ a, (k1_off564 v764 v766 k1_t41 k1_t42) a + S1x16.size a ≤ S72x256.size a) ∧
  (∀ (k1_t41 : Fin (k1_t41_loop v764 v766).trips) (k1_t42 : Fin (k1_t42_loop v764 v766 k1_t41).trips), ∀ a, (k1_off565 v764 v766 k1_t41 k1_t42) a + S1x16.size a ≤ S72x256.size a) ∧
  (∀ (k1_t41 : Fin (k1_t41_loop v764 v766).trips) (k1_t42 : Fin (k1_t42_loop v764 v766 k1_t41).trips), ∀ a, (k1_off566 v764 v766 k1_t41 k1_t42) a + S1x16.size a ≤ S72x256.size a) ∧
  (∀ (k1_t41 : Fin (k1_t41_loop v764 v766).trips) (k1_t42 : Fin (k1_t42_loop v764 v766 k1_t41).trips), ∀ a, (k1_off567 v764 v766 k1_t41 k1_t42) a + S1x16.size a ≤ S72x256.size a) ∧
  (∀ (k1_t41 : Fin (k1_t41_loop v764 v766).trips) (k1_t42 : Fin (k1_t42_loop v764 v766 k1_t41).trips), ∀ a, (k1_off568 v764 v766 k1_t41 k1_t42) a + S1x16.size a ≤ S72x256.size a) ∧
  (∀ k1_t41 : Fin (k1_t41_loop v764 v766).trips, (k1_t43_loop v764 v766 k1_t41).OK) ∧
  (∀ (k1_t41 : Fin (k1_t41_loop v764 v766).trips) (k1_t43 : Fin (k1_t43_loop v764 v766 k1_t41).trips), ∀ a, (k1_off569 v764 v766 k1_t41 k1_t43) a + S1x16.size a ≤ S72x256.size a) ∧
  (∀ (k1_t41 : Fin (k1_t41_loop v764 v766).trips) (k1_t43 : Fin (k1_t43_loop v764 v766 k1_t41).trips), ∀ a, (k1_off570 v764 v766 k1_t41 k1_t43) a + S1x16.size a ≤ S72x256.size a) ∧
  (∀ (k1_t41 : Fin (k1_t41_loop v764 v766).trips) (k1_t43 : Fin (k1_t43_loop v764 v766 k1_t41).trips), ∀ a, (k1_off571 v764 v766 k1_t41 k1_t43) a + S1x16.size a ≤ S72x256.size a) ∧
  (∀ (k1_t41 : Fin (k1_t41_loop v764 v766).trips) (k1_t43 : Fin (k1_t43_loop v764 v766 k1_t41).trips), ∀ a, (k1_off572 v764 v766 k1_t41 k1_t43) a + S1x16.size a ≤ S72x256.size a) ∧
  (∀ (k1_t41 : Fin (k1_t41_loop v764 v766).trips) (k1_t43 : Fin (k1_t43_loop v764 v766 k1_t41).trips), ∀ a, (k1_off573 v764 v766 k1_t41 k1_t43) a + S1x16.size a ≤ S72x256.size a) ∧
  (∀ (k1_t41 : Fin (k1_t41_loop v764 v766).trips) (k1_t43 : Fin (k1_t43_loop v764 v766 k1_t41).trips), ∀ a, (k1_off574 v764 v766 k1_t41 k1_t43) a + S1x16.size a ≤ S72x256.size a) ∧
  (∀ (k1_t41 : Fin (k1_t41_loop v764 v766).trips) (k1_t43 : Fin (k1_t43_loop v764 v766 k1_t41).trips), ∀ a, (k1_off575 v764 v766 k1_t41 k1_t43) a + S1x16.size a ≤ S72x256.size a) ∧
  (∀ (k1_t41 : Fin (k1_t41_loop v764 v766).trips) (k1_t43 : Fin (k1_t43_loop v764 v766 k1_t41).trips), ∀ a, (k1_off576 v764 v766 k1_t41 k1_t43) a + S1x16.size a ≤ S72x256.size a) ∧
  (∀ (k1_t41 : Fin (k1_t41_loop v764 v766).trips) (k1_t43 : Fin (k1_t43_loop v764 v766 k1_t41).trips), ∀ a, (k1_off577 v764 v766 k1_t41 k1_t43) a + S1x16.size a ≤ S72x256.size a) ∧
  (∀ (k1_t41 : Fin (k1_t41_loop v764 v766).trips) (k1_t43 : Fin (k1_t43_loop v764 v766 k1_t41).trips), ∀ a, (k1_off578 v764 v766 k1_t41 k1_t43) a + S1x16.size a ≤ S72x256.size a)
def k1_chk5_1 (i : grid1.Coords) (v764 : BitVec 32) (v766 : BitVec 32) : Prop :=
  (∀ (k1_t41 : Fin (k1_t41_loop v764 v766).trips) (k1_t43 : Fin (k1_t43_loop v764 v766 k1_t41).trips), ∀ a, (k1_off579 v764 v766 k1_t41 k1_t43) a + S1x16.size a ≤ S72x256.size a) ∧
  (∀ (k1_t41 : Fin (k1_t41_loop v764 v766).trips) (k1_t43 : Fin (k1_t43_loop v764 v766 k1_t41).trips), ∀ a, (k1_off580 v764 v766 k1_t41 k1_t43) a + S1x16.size a ≤ S72x256.size a) ∧
  (∀ (k1_t41 : Fin (k1_t41_loop v764 v766).trips) (k1_t43 : Fin (k1_t43_loop v764 v766 k1_t41).trips), ∀ a, (k1_off581 v764 v766 k1_t41 k1_t43) a + S1x16.size a ≤ S72x256.size a) ∧
  (∀ (k1_t41 : Fin (k1_t41_loop v764 v766).trips) (k1_t43 : Fin (k1_t43_loop v764 v766 k1_t41).trips), ∀ a, (k1_off582 v764 v766 k1_t41 k1_t43) a + S1x16.size a ≤ S72x256.size a) ∧
  (∀ (k1_t41 : Fin (k1_t41_loop v764 v766).trips) (k1_t43 : Fin (k1_t43_loop v764 v766 k1_t41).trips), ∀ a, (k1_off583 v764 v766 k1_t41 k1_t43) a + S1x16.size a ≤ S72x256.size a) ∧
  (∀ (k1_t41 : Fin (k1_t41_loop v764 v766).trips) (k1_t43 : Fin (k1_t43_loop v764 v766 k1_t41).trips), ∀ a, (k1_off584 v764 v766 k1_t41 k1_t43) a + S1x16.size a ≤ S72x256.size a) ∧
  (∀ k1_t41 : Fin (k1_t41_loop v764 v766).trips, ∀ (k1_h40 : k1_cond40 v764 v766 k1_t41 = 1#1), ∀ a, (k1_off585 i v764 v766 k1_t41) a + S72x256.size a ≤ S100000x512.size a) ∧
  (∀ k1_t41 : Fin (k1_t41_loop v764 v766).trips, ∀ (k1_h40 : k1_cond40 v764 v766 k1_t41 = 1#1), ∀ (k1_h41 : k1_cond41 v764 v766 k1_t41 = 1#1), ∀ a, (k1_off586 i v764 v766 k1_t41) a + S72x256.size a ≤ S100000x512.size a) ∧
  (∀ k1_t41 : Fin (k1_t41_loop v764 v766).trips, (k1_t44_loop v764 v766 k1_t41).OK) ∧
  (∀ (k1_t41 : Fin (k1_t41_loop v764 v766).trips) (k1_t44 : Fin (k1_t44_loop v764 v766 k1_t41).trips), ∀ a, (k1_off587 v764 v766 k1_t41 k1_t44) a + S1x16.size a ≤ S72x256.size a) ∧
  (∀ (k1_t41 : Fin (k1_t41_loop v764 v766).trips) (k1_t44 : Fin (k1_t44_loop v764 v766 k1_t41).trips), ∀ a, (k1_off588 v764 v766 k1_t41 k1_t44) a + S1x16.size a ≤ S72x256.size a) ∧
  (∀ (k1_t41 : Fin (k1_t41_loop v764 v766).trips) (k1_t44 : Fin (k1_t44_loop v764 v766 k1_t41).trips), ∀ a, (k1_off589 v764 v766 k1_t41 k1_t44) a + S1x16.size a ≤ S72x256.size a) ∧
  (∀ (k1_t41 : Fin (k1_t41_loop v764 v766).trips) (k1_t44 : Fin (k1_t44_loop v764 v766 k1_t41).trips), ∀ a, (k1_off590 v764 v766 k1_t41 k1_t44) a + S1x16.size a ≤ S72x256.size a) ∧
  (∀ (k1_t41 : Fin (k1_t41_loop v764 v766).trips) (k1_t44 : Fin (k1_t44_loop v764 v766 k1_t41).trips), ∀ a, (k1_off591 v764 v766 k1_t41 k1_t44) a + S1x16.size a ≤ S72x256.size a) ∧
  (∀ (k1_t41 : Fin (k1_t41_loop v764 v766).trips) (k1_t44 : Fin (k1_t44_loop v764 v766 k1_t41).trips), ∀ a, (k1_off592 v764 v766 k1_t41 k1_t44) a + S1x16.size a ≤ S72x256.size a) ∧
  (∀ (k1_t41 : Fin (k1_t41_loop v764 v766).trips) (k1_t44 : Fin (k1_t44_loop v764 v766 k1_t41).trips), ∀ a, (k1_off593 v764 v766 k1_t41 k1_t44) a + S1x16.size a ≤ S72x256.size a) ∧
  (∀ (k1_t41 : Fin (k1_t41_loop v764 v766).trips) (k1_t44 : Fin (k1_t44_loop v764 v766 k1_t41).trips), ∀ a, (k1_off594 v764 v766 k1_t41 k1_t44) a + S1x16.size a ≤ S72x256.size a) ∧
  (∀ (k1_t41 : Fin (k1_t41_loop v764 v766).trips) (k1_t44 : Fin (k1_t44_loop v764 v766 k1_t41).trips), ∀ a, (k1_off595 v764 v766 k1_t41 k1_t44) a + S1x16.size a ≤ S72x256.size a) ∧
  (∀ (k1_t41 : Fin (k1_t41_loop v764 v766).trips) (k1_t44 : Fin (k1_t44_loop v764 v766 k1_t41).trips), ∀ a, (k1_off596 v764 v766 k1_t41 k1_t44) a + S1x16.size a ≤ S72x256.size a) ∧
  (∀ (k1_t41 : Fin (k1_t41_loop v764 v766).trips) (k1_t44 : Fin (k1_t44_loop v764 v766 k1_t41).trips), ∀ a, (k1_off597 v764 v766 k1_t41 k1_t44) a + S1x16.size a ≤ S72x256.size a) ∧
  (∀ (k1_t41 : Fin (k1_t41_loop v764 v766).trips) (k1_t44 : Fin (k1_t44_loop v764 v766 k1_t41).trips), ∀ a, (k1_off598 v764 v766 k1_t41 k1_t44) a + S1x16.size a ≤ S72x256.size a) ∧
  (∀ (k1_t41 : Fin (k1_t41_loop v764 v766).trips) (k1_t44 : Fin (k1_t44_loop v764 v766 k1_t41).trips), ∀ a, (k1_off599 v764 v766 k1_t41 k1_t44) a + S1x16.size a ≤ S72x256.size a) ∧
  (∀ (k1_t41 : Fin (k1_t41_loop v764 v766).trips) (k1_t44 : Fin (k1_t44_loop v764 v766 k1_t41).trips), ∀ a, (k1_off600 v764 v766 k1_t41 k1_t44) a + S1x16.size a ≤ S72x256.size a) ∧
  (∀ (k1_t41 : Fin (k1_t41_loop v764 v766).trips) (k1_t44 : Fin (k1_t44_loop v764 v766 k1_t41).trips), ∀ a, (k1_off601 v764 v766 k1_t41 k1_t44) a + S1x16.size a ≤ S72x256.size a) ∧
  (∀ (k1_t41 : Fin (k1_t41_loop v764 v766).trips) (k1_t44 : Fin (k1_t44_loop v764 v766 k1_t41).trips), ∀ a, (k1_off602 v764 v766 k1_t41 k1_t44) a + S1x16.size a ≤ S72x256.size a) ∧
  (∀ k1_t41 : Fin (k1_t41_loop v764 v766).trips, (k1_t45_loop v764 v766 k1_t41).OK) ∧
  (∀ (k1_t41 : Fin (k1_t41_loop v764 v766).trips) (k1_t45 : Fin (k1_t45_loop v764 v766 k1_t41).trips), ∀ a, (k1_off603 v764 v766 k1_t41 k1_t45) a + S1x16.size a ≤ S72x256.size a) ∧
  (∀ (k1_t41 : Fin (k1_t41_loop v764 v766).trips) (k1_t45 : Fin (k1_t45_loop v764 v766 k1_t41).trips), ∀ a, (k1_off604 v764 v766 k1_t41 k1_t45) a + S1x16.size a ≤ S72x256.size a) ∧
  (∀ (k1_t41 : Fin (k1_t41_loop v764 v766).trips) (k1_t45 : Fin (k1_t45_loop v764 v766 k1_t41).trips), ∀ a, (k1_off605 v764 v766 k1_t41 k1_t45) a + S1x16.size a ≤ S72x256.size a) ∧
  (∀ (k1_t41 : Fin (k1_t41_loop v764 v766).trips) (k1_t45 : Fin (k1_t45_loop v764 v766 k1_t41).trips), ∀ a, (k1_off606 v764 v766 k1_t41 k1_t45) a + S1x16.size a ≤ S72x256.size a) ∧
  (∀ (k1_t41 : Fin (k1_t41_loop v764 v766).trips) (k1_t45 : Fin (k1_t45_loop v764 v766 k1_t41).trips), ∀ a, (k1_off607 v764 v766 k1_t41 k1_t45) a + S1x16.size a ≤ S72x256.size a) ∧
  (∀ (k1_t41 : Fin (k1_t41_loop v764 v766).trips) (k1_t45 : Fin (k1_t45_loop v764 v766 k1_t41).trips), ∀ a, (k1_off608 v764 v766 k1_t41 k1_t45) a + S1x16.size a ≤ S72x256.size a)
def k1_chk5_2 (i : grid1.Coords) (v764 : BitVec 32) (v766 : BitVec 32) : Prop :=
  (∀ (k1_t41 : Fin (k1_t41_loop v764 v766).trips) (k1_t45 : Fin (k1_t45_loop v764 v766 k1_t41).trips), ∀ a, (k1_off609 v764 v766 k1_t41 k1_t45) a + S1x16.size a ≤ S72x256.size a) ∧
  (∀ (k1_t41 : Fin (k1_t41_loop v764 v766).trips) (k1_t45 : Fin (k1_t45_loop v764 v766 k1_t41).trips), ∀ a, (k1_off610 v764 v766 k1_t41 k1_t45) a + S1x16.size a ≤ S72x256.size a) ∧
  (∀ (k1_t41 : Fin (k1_t41_loop v764 v766).trips) (k1_t45 : Fin (k1_t45_loop v764 v766 k1_t41).trips), ∀ a, (k1_off611 v764 v766 k1_t41 k1_t45) a + S1x16.size a ≤ S72x256.size a) ∧
  (∀ (k1_t41 : Fin (k1_t41_loop v764 v766).trips) (k1_t45 : Fin (k1_t45_loop v764 v766 k1_t41).trips), ∀ a, (k1_off612 v764 v766 k1_t41 k1_t45) a + S1x16.size a ≤ S72x256.size a) ∧
  (∀ (k1_t41 : Fin (k1_t41_loop v764 v766).trips) (k1_t45 : Fin (k1_t45_loop v764 v766 k1_t41).trips), ∀ a, (k1_off613 v764 v766 k1_t41 k1_t45) a + S1x16.size a ≤ S72x256.size a) ∧
  (∀ (k1_t41 : Fin (k1_t41_loop v764 v766).trips) (k1_t45 : Fin (k1_t45_loop v764 v766 k1_t41).trips), ∀ a, (k1_off614 v764 v766 k1_t41 k1_t45) a + S1x16.size a ≤ S72x256.size a) ∧
  (∀ (k1_t41 : Fin (k1_t41_loop v764 v766).trips) (k1_t45 : Fin (k1_t45_loop v764 v766 k1_t41).trips), ∀ a, (k1_off615 v764 v766 k1_t41 k1_t45) a + S1x16.size a ≤ S72x256.size a) ∧
  (∀ (k1_t41 : Fin (k1_t41_loop v764 v766).trips) (k1_t45 : Fin (k1_t45_loop v764 v766 k1_t41).trips), ∀ a, (k1_off616 v764 v766 k1_t41 k1_t45) a + S1x16.size a ≤ S72x256.size a) ∧
  (∀ (k1_t41 : Fin (k1_t41_loop v764 v766).trips) (k1_t45 : Fin (k1_t45_loop v764 v766 k1_t41).trips), ∀ a, (k1_off617 v764 v766 k1_t41 k1_t45) a + S1x16.size a ≤ S72x256.size a) ∧
  (∀ (k1_t41 : Fin (k1_t41_loop v764 v766).trips) (k1_t45 : Fin (k1_t45_loop v764 v766 k1_t41).trips), ∀ a, (k1_off618 v764 v766 k1_t41 k1_t45) a + S1x16.size a ≤ S72x256.size a) ∧
  ((k1_t46_loop v764 v766).OK) ∧
  (∀ k1_t46 : Fin (k1_t46_loop v764 v766).trips, ∀ (k1_h42 : k1_cond42 v764 v766 k1_t46 = 1#1), ∀ a, (k1_off619 i v764 v766 k1_t46) a + S72x256.size a ≤ S100000x512.size a) ∧
  (∀ k1_t46 : Fin (k1_t46_loop v764 v766).trips, ∀ (k1_h42 : k1_cond42 v764 v766 k1_t46 = 1#1), ∀ (k1_h43 : k1_cond43 v764 v766 k1_t46 = 1#1), ∀ a, (k1_off620 i v764 v766 k1_t46) a + S72x256.size a ≤ S100000x512.size a) ∧
  (∀ k1_t46 : Fin (k1_t46_loop v764 v766).trips, (k1_t47_loop v764 v766 k1_t46).OK) ∧
  (∀ (k1_t46 : Fin (k1_t46_loop v764 v766).trips) (k1_t47 : Fin (k1_t47_loop v764 v766 k1_t46).trips), ∀ a, (k1_off621 v764 v766 k1_t46 k1_t47) a + S1x16.size a ≤ S72x256.size a) ∧
  (∀ (k1_t46 : Fin (k1_t46_loop v764 v766).trips) (k1_t47 : Fin (k1_t47_loop v764 v766 k1_t46).trips), ∀ a, (k1_off622 v764 v766 k1_t46 k1_t47) a + S1x16.size a ≤ S72x256.size a) ∧
  (∀ (k1_t46 : Fin (k1_t46_loop v764 v766).trips) (k1_t47 : Fin (k1_t47_loop v764 v766 k1_t46).trips), ∀ a, (k1_off623 v764 v766 k1_t46 k1_t47) a + S1x16.size a ≤ S72x256.size a) ∧
  (∀ (k1_t46 : Fin (k1_t46_loop v764 v766).trips) (k1_t47 : Fin (k1_t47_loop v764 v766 k1_t46).trips), ∀ a, (k1_off624 v764 v766 k1_t46 k1_t47) a + S1x16.size a ≤ S72x256.size a) ∧
  (∀ (k1_t46 : Fin (k1_t46_loop v764 v766).trips) (k1_t47 : Fin (k1_t47_loop v764 v766 k1_t46).trips), ∀ a, (k1_off625 v764 v766 k1_t46 k1_t47) a + S1x16.size a ≤ S72x256.size a) ∧
  (∀ (k1_t46 : Fin (k1_t46_loop v764 v766).trips) (k1_t47 : Fin (k1_t47_loop v764 v766 k1_t46).trips), ∀ a, (k1_off626 v764 v766 k1_t46 k1_t47) a + S1x16.size a ≤ S72x256.size a) ∧
  (∀ (k1_t46 : Fin (k1_t46_loop v764 v766).trips) (k1_t47 : Fin (k1_t47_loop v764 v766 k1_t46).trips), ∀ a, (k1_off627 v764 v766 k1_t46 k1_t47) a + S1x16.size a ≤ S72x256.size a) ∧
  (∀ (k1_t46 : Fin (k1_t46_loop v764 v766).trips) (k1_t47 : Fin (k1_t47_loop v764 v766 k1_t46).trips), ∀ a, (k1_off628 v764 v766 k1_t46 k1_t47) a + S1x16.size a ≤ S72x256.size a) ∧
  (∀ (k1_t46 : Fin (k1_t46_loop v764 v766).trips) (k1_t47 : Fin (k1_t47_loop v764 v766 k1_t46).trips), ∀ a, (k1_off629 v764 v766 k1_t46 k1_t47) a + S1x16.size a ≤ S72x256.size a) ∧
  (∀ (k1_t46 : Fin (k1_t46_loop v764 v766).trips) (k1_t47 : Fin (k1_t47_loop v764 v766 k1_t46).trips), ∀ a, (k1_off630 v764 v766 k1_t46 k1_t47) a + S1x16.size a ≤ S72x256.size a) ∧
  (∀ (k1_t46 : Fin (k1_t46_loop v764 v766).trips) (k1_t47 : Fin (k1_t47_loop v764 v766 k1_t46).trips), ∀ a, (k1_off631 v764 v766 k1_t46 k1_t47) a + S1x16.size a ≤ S72x256.size a) ∧
  (∀ (k1_t46 : Fin (k1_t46_loop v764 v766).trips) (k1_t47 : Fin (k1_t47_loop v764 v766 k1_t46).trips), ∀ a, (k1_off632 v764 v766 k1_t46 k1_t47) a + S1x16.size a ≤ S72x256.size a) ∧
  (∀ (k1_t46 : Fin (k1_t46_loop v764 v766).trips) (k1_t47 : Fin (k1_t47_loop v764 v766 k1_t46).trips), ∀ a, (k1_off633 v764 v766 k1_t46 k1_t47) a + S1x16.size a ≤ S72x256.size a) ∧
  (∀ (k1_t46 : Fin (k1_t46_loop v764 v766).trips) (k1_t47 : Fin (k1_t47_loop v764 v766 k1_t46).trips), ∀ a, (k1_off634 v764 v766 k1_t46 k1_t47) a + S1x16.size a ≤ S72x256.size a) ∧
  (∀ (k1_t46 : Fin (k1_t46_loop v764 v766).trips) (k1_t47 : Fin (k1_t47_loop v764 v766 k1_t46).trips), ∀ a, (k1_off635 v764 v766 k1_t46 k1_t47) a + S1x16.size a ≤ S72x256.size a) ∧
  (∀ (k1_t46 : Fin (k1_t46_loop v764 v766).trips) (k1_t47 : Fin (k1_t47_loop v764 v766 k1_t46).trips), ∀ a, (k1_off636 v764 v766 k1_t46 k1_t47) a + S1x16.size a ≤ S72x256.size a) ∧
  (∀ k1_t46 : Fin (k1_t46_loop v764 v766).trips, (k1_t48_loop v764 v766 k1_t46).OK) ∧
  (∀ (k1_t46 : Fin (k1_t46_loop v764 v766).trips) (k1_t48 : Fin (k1_t48_loop v764 v766 k1_t46).trips), ∀ a, (k1_off637 v764 v766 k1_t46 k1_t48) a + S1x16.size a ≤ S72x256.size a)
def k1_chk5_3 (i : grid1.Coords) (v764 : BitVec 32) (v766 : BitVec 32) : Prop :=
  (∀ (k1_t46 : Fin (k1_t46_loop v764 v766).trips) (k1_t48 : Fin (k1_t48_loop v764 v766 k1_t46).trips), ∀ a, (k1_off638 v764 v766 k1_t46 k1_t48) a + S1x16.size a ≤ S72x256.size a) ∧
  (∀ (k1_t46 : Fin (k1_t46_loop v764 v766).trips) (k1_t48 : Fin (k1_t48_loop v764 v766 k1_t46).trips), ∀ a, (k1_off639 v764 v766 k1_t46 k1_t48) a + S1x16.size a ≤ S72x256.size a) ∧
  (∀ (k1_t46 : Fin (k1_t46_loop v764 v766).trips) (k1_t48 : Fin (k1_t48_loop v764 v766 k1_t46).trips), ∀ a, (k1_off640 v764 v766 k1_t46 k1_t48) a + S1x16.size a ≤ S72x256.size a) ∧
  (∀ (k1_t46 : Fin (k1_t46_loop v764 v766).trips) (k1_t48 : Fin (k1_t48_loop v764 v766 k1_t46).trips), ∀ a, (k1_off641 v764 v766 k1_t46 k1_t48) a + S1x16.size a ≤ S72x256.size a) ∧
  (∀ (k1_t46 : Fin (k1_t46_loop v764 v766).trips) (k1_t48 : Fin (k1_t48_loop v764 v766 k1_t46).trips), ∀ a, (k1_off642 v764 v766 k1_t46 k1_t48) a + S1x16.size a ≤ S72x256.size a) ∧
  (∀ (k1_t46 : Fin (k1_t46_loop v764 v766).trips) (k1_t48 : Fin (k1_t48_loop v764 v766 k1_t46).trips), ∀ a, (k1_off643 v764 v766 k1_t46 k1_t48) a + S1x16.size a ≤ S72x256.size a) ∧
  (∀ (k1_t46 : Fin (k1_t46_loop v764 v766).trips) (k1_t48 : Fin (k1_t48_loop v764 v766 k1_t46).trips), ∀ a, (k1_off644 v764 v766 k1_t46 k1_t48) a + S1x16.size a ≤ S72x256.size a) ∧
  (∀ (k1_t46 : Fin (k1_t46_loop v764 v766).trips) (k1_t48 : Fin (k1_t48_loop v764 v766 k1_t46).trips), ∀ a, (k1_off645 v764 v766 k1_t46 k1_t48) a + S1x16.size a ≤ S72x256.size a) ∧
  (∀ (k1_t46 : Fin (k1_t46_loop v764 v766).trips) (k1_t48 : Fin (k1_t48_loop v764 v766 k1_t46).trips), ∀ a, (k1_off646 v764 v766 k1_t46 k1_t48) a + S1x16.size a ≤ S72x256.size a) ∧
  (∀ (k1_t46 : Fin (k1_t46_loop v764 v766).trips) (k1_t48 : Fin (k1_t48_loop v764 v766 k1_t46).trips), ∀ a, (k1_off647 v764 v766 k1_t46 k1_t48) a + S1x16.size a ≤ S72x256.size a) ∧
  (∀ (k1_t46 : Fin (k1_t46_loop v764 v766).trips) (k1_t48 : Fin (k1_t48_loop v764 v766 k1_t46).trips), ∀ a, (k1_off648 v764 v766 k1_t46 k1_t48) a + S1x16.size a ≤ S72x256.size a) ∧
  (∀ (k1_t46 : Fin (k1_t46_loop v764 v766).trips) (k1_t48 : Fin (k1_t48_loop v764 v766 k1_t46).trips), ∀ a, (k1_off649 v764 v766 k1_t46 k1_t48) a + S1x16.size a ≤ S72x256.size a) ∧
  (∀ (k1_t46 : Fin (k1_t46_loop v764 v766).trips) (k1_t48 : Fin (k1_t48_loop v764 v766 k1_t46).trips), ∀ a, (k1_off650 v764 v766 k1_t46 k1_t48) a + S1x16.size a ≤ S72x256.size a) ∧
  (∀ (k1_t46 : Fin (k1_t46_loop v764 v766).trips) (k1_t48 : Fin (k1_t48_loop v764 v766 k1_t46).trips), ∀ a, (k1_off651 v764 v766 k1_t46 k1_t48) a + S1x16.size a ≤ S72x256.size a) ∧
  (∀ (k1_t46 : Fin (k1_t46_loop v764 v766).trips) (k1_t48 : Fin (k1_t48_loop v764 v766 k1_t46).trips), ∀ a, (k1_off652 v764 v766 k1_t46 k1_t48) a + S1x16.size a ≤ S72x256.size a) ∧
  (∀ k1_t46 : Fin (k1_t46_loop v764 v766).trips, ∀ (k1_h44 : k1_cond44 v764 v766 k1_t46 = 1#1), ∀ a, (k1_off653 i v764 v766 k1_t46) a + S72x256.size a ≤ S100000x512.size a) ∧
  (∀ k1_t46 : Fin (k1_t46_loop v764 v766).trips, ∀ (k1_h44 : k1_cond44 v764 v766 k1_t46 = 1#1), ∀ (k1_h45 : k1_cond45 v764 v766 k1_t46 = 1#1), ∀ a, (k1_off654 i v764 v766 k1_t46) a + S72x256.size a ≤ S100000x512.size a) ∧
  (∀ k1_t46 : Fin (k1_t46_loop v764 v766).trips, (k1_t49_loop v764 v766 k1_t46).OK) ∧
  (∀ (k1_t46 : Fin (k1_t46_loop v764 v766).trips) (k1_t49 : Fin (k1_t49_loop v764 v766 k1_t46).trips), ∀ a, (k1_off655 v764 v766 k1_t46 k1_t49) a + S1x16.size a ≤ S72x256.size a) ∧
  (∀ (k1_t46 : Fin (k1_t46_loop v764 v766).trips) (k1_t49 : Fin (k1_t49_loop v764 v766 k1_t46).trips), ∀ a, (k1_off656 v764 v766 k1_t46 k1_t49) a + S1x16.size a ≤ S72x256.size a) ∧
  (∀ (k1_t46 : Fin (k1_t46_loop v764 v766).trips) (k1_t49 : Fin (k1_t49_loop v764 v766 k1_t46).trips), ∀ a, (k1_off657 v764 v766 k1_t46 k1_t49) a + S1x16.size a ≤ S72x256.size a) ∧
  (∀ (k1_t46 : Fin (k1_t46_loop v764 v766).trips) (k1_t49 : Fin (k1_t49_loop v764 v766 k1_t46).trips), ∀ a, (k1_off658 v764 v766 k1_t46 k1_t49) a + S1x16.size a ≤ S72x256.size a) ∧
  (∀ (k1_t46 : Fin (k1_t46_loop v764 v766).trips) (k1_t49 : Fin (k1_t49_loop v764 v766 k1_t46).trips), ∀ a, (k1_off659 v764 v766 k1_t46 k1_t49) a + S1x16.size a ≤ S72x256.size a) ∧
  (∀ (k1_t46 : Fin (k1_t46_loop v764 v766).trips) (k1_t49 : Fin (k1_t49_loop v764 v766 k1_t46).trips), ∀ a, (k1_off660 v764 v766 k1_t46 k1_t49) a + S1x16.size a ≤ S72x256.size a) ∧
  (∀ (k1_t46 : Fin (k1_t46_loop v764 v766).trips) (k1_t49 : Fin (k1_t49_loop v764 v766 k1_t46).trips), ∀ a, (k1_off661 v764 v766 k1_t46 k1_t49) a + S1x16.size a ≤ S72x256.size a) ∧
  (∀ (k1_t46 : Fin (k1_t46_loop v764 v766).trips) (k1_t49 : Fin (k1_t49_loop v764 v766 k1_t46).trips), ∀ a, (k1_off662 v764 v766 k1_t46 k1_t49) a + S1x16.size a ≤ S72x256.size a) ∧
  (∀ (k1_t46 : Fin (k1_t46_loop v764 v766).trips) (k1_t49 : Fin (k1_t49_loop v764 v766 k1_t46).trips), ∀ a, (k1_off663 v764 v766 k1_t46 k1_t49) a + S1x16.size a ≤ S72x256.size a) ∧
  (∀ (k1_t46 : Fin (k1_t46_loop v764 v766).trips) (k1_t49 : Fin (k1_t49_loop v764 v766 k1_t46).trips), ∀ a, (k1_off664 v764 v766 k1_t46 k1_t49) a + S1x16.size a ≤ S72x256.size a) ∧
  (∀ (k1_t46 : Fin (k1_t46_loop v764 v766).trips) (k1_t49 : Fin (k1_t49_loop v764 v766 k1_t46).trips), ∀ a, (k1_off665 v764 v766 k1_t46 k1_t49) a + S1x16.size a ≤ S72x256.size a) ∧
  (∀ (k1_t46 : Fin (k1_t46_loop v764 v766).trips) (k1_t49 : Fin (k1_t49_loop v764 v766 k1_t46).trips), ∀ a, (k1_off666 v764 v766 k1_t46 k1_t49) a + S1x16.size a ≤ S72x256.size a) ∧
  (∀ (k1_t46 : Fin (k1_t46_loop v764 v766).trips) (k1_t49 : Fin (k1_t49_loop v764 v766 k1_t46).trips), ∀ a, (k1_off667 v764 v766 k1_t46 k1_t49) a + S1x16.size a ≤ S72x256.size a) ∧
  (∀ (k1_t46 : Fin (k1_t46_loop v764 v766).trips) (k1_t49 : Fin (k1_t49_loop v764 v766 k1_t46).trips), ∀ a, (k1_off668 v764 v766 k1_t46 k1_t49) a + S1x16.size a ≤ S72x256.size a)
def k1_chk5_4 (i : grid1.Coords) (v764 : BitVec 32) (v766 : BitVec 32) : Prop :=
  (∀ (k1_t46 : Fin (k1_t46_loop v764 v766).trips) (k1_t49 : Fin (k1_t49_loop v764 v766 k1_t46).trips), ∀ a, (k1_off669 v764 v766 k1_t46 k1_t49) a + S1x16.size a ≤ S72x256.size a) ∧
  (∀ (k1_t46 : Fin (k1_t46_loop v764 v766).trips) (k1_t49 : Fin (k1_t49_loop v764 v766 k1_t46).trips), ∀ a, (k1_off670 v764 v766 k1_t46 k1_t49) a + S1x16.size a ≤ S72x256.size a) ∧
  (∀ k1_t46 : Fin (k1_t46_loop v764 v766).trips, (k1_t50_loop v764 v766 k1_t46).OK) ∧
  (∀ (k1_t46 : Fin (k1_t46_loop v764 v766).trips) (k1_t50 : Fin (k1_t50_loop v764 v766 k1_t46).trips), ∀ a, (k1_off671 v764 v766 k1_t46 k1_t50) a + S1x16.size a ≤ S72x256.size a) ∧
  (∀ (k1_t46 : Fin (k1_t46_loop v764 v766).trips) (k1_t50 : Fin (k1_t50_loop v764 v766 k1_t46).trips), ∀ a, (k1_off672 v764 v766 k1_t46 k1_t50) a + S1x16.size a ≤ S72x256.size a) ∧
  (∀ (k1_t46 : Fin (k1_t46_loop v764 v766).trips) (k1_t50 : Fin (k1_t50_loop v764 v766 k1_t46).trips), ∀ a, (k1_off673 v764 v766 k1_t46 k1_t50) a + S1x16.size a ≤ S72x256.size a) ∧
  (∀ (k1_t46 : Fin (k1_t46_loop v764 v766).trips) (k1_t50 : Fin (k1_t50_loop v764 v766 k1_t46).trips), ∀ a, (k1_off674 v764 v766 k1_t46 k1_t50) a + S1x16.size a ≤ S72x256.size a) ∧
  (∀ (k1_t46 : Fin (k1_t46_loop v764 v766).trips) (k1_t50 : Fin (k1_t50_loop v764 v766 k1_t46).trips), ∀ a, (k1_off675 v764 v766 k1_t46 k1_t50) a + S1x16.size a ≤ S72x256.size a) ∧
  (∀ (k1_t46 : Fin (k1_t46_loop v764 v766).trips) (k1_t50 : Fin (k1_t50_loop v764 v766 k1_t46).trips), ∀ a, (k1_off676 v764 v766 k1_t46 k1_t50) a + S1x16.size a ≤ S72x256.size a) ∧
  (∀ (k1_t46 : Fin (k1_t46_loop v764 v766).trips) (k1_t50 : Fin (k1_t50_loop v764 v766 k1_t46).trips), ∀ a, (k1_off677 v764 v766 k1_t46 k1_t50) a + S1x16.size a ≤ S72x256.size a) ∧
  (∀ (k1_t46 : Fin (k1_t46_loop v764 v766).trips) (k1_t50 : Fin (k1_t50_loop v764 v766 k1_t46).trips), ∀ a, (k1_off678 v764 v766 k1_t46 k1_t50) a + S1x16.size a ≤ S72x256.size a) ∧
  (∀ (k1_t46 : Fin (k1_t46_loop v764 v766).trips) (k1_t50 : Fin (k1_t50_loop v764 v766 k1_t46).trips), ∀ a, (k1_off679 v764 v766 k1_t46 k1_t50) a + S1x16.size a ≤ S72x256.size a) ∧
  (∀ (k1_t46 : Fin (k1_t46_loop v764 v766).trips) (k1_t50 : Fin (k1_t50_loop v764 v766 k1_t46).trips), ∀ a, (k1_off680 v764 v766 k1_t46 k1_t50) a + S1x16.size a ≤ S72x256.size a) ∧
  (∀ (k1_t46 : Fin (k1_t46_loop v764 v766).trips) (k1_t50 : Fin (k1_t50_loop v764 v766 k1_t46).trips), ∀ a, (k1_off681 v764 v766 k1_t46 k1_t50) a + S1x16.size a ≤ S72x256.size a) ∧
  (∀ (k1_t46 : Fin (k1_t46_loop v764 v766).trips) (k1_t50 : Fin (k1_t50_loop v764 v766 k1_t46).trips), ∀ a, (k1_off682 v764 v766 k1_t46 k1_t50) a + S1x16.size a ≤ S72x256.size a) ∧
  (∀ (k1_t46 : Fin (k1_t46_loop v764 v766).trips) (k1_t50 : Fin (k1_t50_loop v764 v766 k1_t46).trips), ∀ a, (k1_off683 v764 v766 k1_t46 k1_t50) a + S1x16.size a ≤ S72x256.size a) ∧
  (∀ (k1_t46 : Fin (k1_t46_loop v764 v766).trips) (k1_t50 : Fin (k1_t50_loop v764 v766 k1_t46).trips), ∀ a, (k1_off684 v764 v766 k1_t46 k1_t50) a + S1x16.size a ≤ S72x256.size a) ∧
  (∀ (k1_t46 : Fin (k1_t46_loop v764 v766).trips) (k1_t50 : Fin (k1_t50_loop v764 v766 k1_t46).trips), ∀ a, (k1_off685 v764 v766 k1_t46 k1_t50) a + S1x16.size a ≤ S72x256.size a) ∧
  (∀ (k1_t46 : Fin (k1_t46_loop v764 v766).trips) (k1_t50 : Fin (k1_t50_loop v764 v766 k1_t46).trips), ∀ a, (k1_off686 v764 v766 k1_t46 k1_t50) a + S1x16.size a ≤ S72x256.size a)
def k1_chk5 (i : grid1.Coords) (v764 : BitVec 32) (v766 : BitVec 32) : Prop :=
  k1_chk5_0 i v764 v766 ∧
  k1_chk5_1 i v764 v766 ∧
  k1_chk5_2 i v764 v766 ∧
  k1_chk5_3 i v764 v766 ∧
  k1_chk5_4 i v764 v766
theorem k1_off550_inb : ∀ (i : grid1.Coords) (v764 : BitVec 32) (v766 : BitVec 32) (k1_hw5 : k1_chk5 i v764 v766), ∀ (k1_h37 : k1_cond37 v764 v766 = 1#1), ∀ a, (k1_off550 i v764) a + S72x256.size a ≤ S100000x512.size a := fun i v764 v766 k1_hw5 k1_h37 => k1_hw5.1.1 k1_h37
theorem k1_t41_ok : ∀ (i : grid1.Coords) (v764 : BitVec 32) (v766 : BitVec 32) (k1_hw5 : k1_chk5 i v764 v766), (k1_t41_loop v764 v766).OK := fun i v764 v766 k1_hw5 => k1_hw5.1.2.1
theorem k1_off551_inb : ∀ (i : grid1.Coords) (v764 : BitVec 32) (v766 : BitVec 32) (k1_hw5 : k1_chk5 i v764 v766) (k1_t41 : Fin (k1_t41_loop v764 v766).trips), ∀ (k1_h38 : k1_cond38 v764 v766 k1_t41 = 1#1), ∀ a, (k1_off551 i v764 v766 k1_t41) a + S72x256.size a ≤ S100000x512.size a := fun i v764 v766 k1_hw5 k1_t41 k1_h38 => k1_hw5.1.2.2.1 k1_t41 k1_h38
theorem k1_off552_inb : ∀ (i : grid1.Coords) (v764 : BitVec 32) (v766 : BitVec 32) (k1_hw5 : k1_chk5 i v764 v766) (k1_t41 : Fin (k1_t41_loop v764 v766).trips), ∀ (k1_h38 : k1_cond38 v764 v766 k1_t41 = 1#1), ∀ (k1_h39 : k1_cond39 v764 v766 k1_t41 = 1#1), ∀ a, (k1_off552 i v764 v766 k1_t41) a + S72x256.size a ≤ S100000x512.size a := fun i v764 v766 k1_hw5 k1_t41 k1_h38 k1_h39 => k1_hw5.1.2.2.2.1 k1_t41 k1_h38 k1_h39
theorem k1_t42_ok : ∀ (i : grid1.Coords) (v764 : BitVec 32) (v766 : BitVec 32) (k1_hw5 : k1_chk5 i v764 v766) (k1_t41 : Fin (k1_t41_loop v764 v766).trips), (k1_t42_loop v764 v766 k1_t41).OK := fun i v764 v766 k1_hw5 k1_t41 => k1_hw5.1.2.2.2.2.1 k1_t41
theorem k1_off553_inb : ∀ (i : grid1.Coords) (v764 : BitVec 32) (v766 : BitVec 32) (k1_hw5 : k1_chk5 i v764 v766) (k1_t41 : Fin (k1_t41_loop v764 v766).trips) (k1_t42 : Fin (k1_t42_loop v764 v766 k1_t41).trips), ∀ a, (k1_off553 v764 v766 k1_t41 k1_t42) a + S1x16.size a ≤ S72x256.size a := fun i v764 v766 k1_hw5 k1_t41 k1_t42 => k1_hw5.1.2.2.2.2.2.1 k1_t41 k1_t42
theorem k1_off554_inb : ∀ (i : grid1.Coords) (v764 : BitVec 32) (v766 : BitVec 32) (k1_hw5 : k1_chk5 i v764 v766) (k1_t41 : Fin (k1_t41_loop v764 v766).trips) (k1_t42 : Fin (k1_t42_loop v764 v766 k1_t41).trips), ∀ a, (k1_off554 v764 v766 k1_t41 k1_t42) a + S1x16.size a ≤ S72x256.size a := fun i v764 v766 k1_hw5 k1_t41 k1_t42 => k1_hw5.1.2.2.2.2.2.2.1 k1_t41 k1_t42
theorem k1_off555_inb : ∀ (i : grid1.Coords) (v764 : BitVec 32) (v766 : BitVec 32) (k1_hw5 : k1_chk5 i v764 v766) (k1_t41 : Fin (k1_t41_loop v764 v766).trips) (k1_t42 : Fin (k1_t42_loop v764 v766 k1_t41).trips), ∀ a, (k1_off555 v764 v766 k1_t41 k1_t42) a + S1x16.size a ≤ S72x256.size a := fun i v764 v766 k1_hw5 k1_t41 k1_t42 => k1_hw5.1.2.2.2.2.2.2.2.1 k1_t41 k1_t42
theorem k1_off556_inb : ∀ (i : grid1.Coords) (v764 : BitVec 32) (v766 : BitVec 32) (k1_hw5 : k1_chk5 i v764 v766) (k1_t41 : Fin (k1_t41_loop v764 v766).trips) (k1_t42 : Fin (k1_t42_loop v764 v766 k1_t41).trips), ∀ a, (k1_off556 v764 v766 k1_t41 k1_t42) a + S1x16.size a ≤ S72x256.size a := fun i v764 v766 k1_hw5 k1_t41 k1_t42 => k1_hw5.1.2.2.2.2.2.2.2.2.1 k1_t41 k1_t42
theorem k1_off557_inb : ∀ (i : grid1.Coords) (v764 : BitVec 32) (v766 : BitVec 32) (k1_hw5 : k1_chk5 i v764 v766) (k1_t41 : Fin (k1_t41_loop v764 v766).trips) (k1_t42 : Fin (k1_t42_loop v764 v766 k1_t41).trips), ∀ a, (k1_off557 v764 v766 k1_t41 k1_t42) a + S1x16.size a ≤ S72x256.size a := fun i v764 v766 k1_hw5 k1_t41 k1_t42 => k1_hw5.1.2.2.2.2.2.2.2.2.2.1 k1_t41 k1_t42
theorem k1_off558_inb : ∀ (i : grid1.Coords) (v764 : BitVec 32) (v766 : BitVec 32) (k1_hw5 : k1_chk5 i v764 v766) (k1_t41 : Fin (k1_t41_loop v764 v766).trips) (k1_t42 : Fin (k1_t42_loop v764 v766 k1_t41).trips), ∀ a, (k1_off558 v764 v766 k1_t41 k1_t42) a + S1x16.size a ≤ S72x256.size a := fun i v764 v766 k1_hw5 k1_t41 k1_t42 => k1_hw5.1.2.2.2.2.2.2.2.2.2.2.1 k1_t41 k1_t42
theorem k1_off559_inb : ∀ (i : grid1.Coords) (v764 : BitVec 32) (v766 : BitVec 32) (k1_hw5 : k1_chk5 i v764 v766) (k1_t41 : Fin (k1_t41_loop v764 v766).trips) (k1_t42 : Fin (k1_t42_loop v764 v766 k1_t41).trips), ∀ a, (k1_off559 v764 v766 k1_t41 k1_t42) a + S1x16.size a ≤ S72x256.size a := fun i v764 v766 k1_hw5 k1_t41 k1_t42 => k1_hw5.1.2.2.2.2.2.2.2.2.2.2.2.1 k1_t41 k1_t42
theorem k1_off560_inb : ∀ (i : grid1.Coords) (v764 : BitVec 32) (v766 : BitVec 32) (k1_hw5 : k1_chk5 i v764 v766) (k1_t41 : Fin (k1_t41_loop v764 v766).trips) (k1_t42 : Fin (k1_t42_loop v764 v766 k1_t41).trips), ∀ a, (k1_off560 v764 v766 k1_t41 k1_t42) a + S1x16.size a ≤ S72x256.size a := fun i v764 v766 k1_hw5 k1_t41 k1_t42 => k1_hw5.1.2.2.2.2.2.2.2.2.2.2.2.2.1 k1_t41 k1_t42
theorem k1_off561_inb : ∀ (i : grid1.Coords) (v764 : BitVec 32) (v766 : BitVec 32) (k1_hw5 : k1_chk5 i v764 v766) (k1_t41 : Fin (k1_t41_loop v764 v766).trips) (k1_t42 : Fin (k1_t42_loop v764 v766 k1_t41).trips), ∀ a, (k1_off561 v764 v766 k1_t41 k1_t42) a + S1x16.size a ≤ S72x256.size a := fun i v764 v766 k1_hw5 k1_t41 k1_t42 => k1_hw5.1.2.2.2.2.2.2.2.2.2.2.2.2.2.1 k1_t41 k1_t42
theorem k1_off562_inb : ∀ (i : grid1.Coords) (v764 : BitVec 32) (v766 : BitVec 32) (k1_hw5 : k1_chk5 i v764 v766) (k1_t41 : Fin (k1_t41_loop v764 v766).trips) (k1_t42 : Fin (k1_t42_loop v764 v766 k1_t41).trips), ∀ a, (k1_off562 v764 v766 k1_t41 k1_t42) a + S1x16.size a ≤ S72x256.size a := fun i v764 v766 k1_hw5 k1_t41 k1_t42 => k1_hw5.1.2.2.2.2.2.2.2.2.2.2.2.2.2.2.1 k1_t41 k1_t42
theorem k1_off563_inb : ∀ (i : grid1.Coords) (v764 : BitVec 32) (v766 : BitVec 32) (k1_hw5 : k1_chk5 i v764 v766) (k1_t41 : Fin (k1_t41_loop v764 v766).trips) (k1_t42 : Fin (k1_t42_loop v764 v766 k1_t41).trips), ∀ a, (k1_off563 v764 v766 k1_t41 k1_t42) a + S1x16.size a ≤ S72x256.size a := fun i v764 v766 k1_hw5 k1_t41 k1_t42 => k1_hw5.1.2.2.2.2.2.2.2.2.2.2.2.2.2.2.2.1 k1_t41 k1_t42
theorem k1_off564_inb : ∀ (i : grid1.Coords) (v764 : BitVec 32) (v766 : BitVec 32) (k1_hw5 : k1_chk5 i v764 v766) (k1_t41 : Fin (k1_t41_loop v764 v766).trips) (k1_t42 : Fin (k1_t42_loop v764 v766 k1_t41).trips), ∀ a, (k1_off564 v764 v766 k1_t41 k1_t42) a + S1x16.size a ≤ S72x256.size a := fun i v764 v766 k1_hw5 k1_t41 k1_t42 => k1_hw5.1.2.2.2.2.2.2.2.2.2.2.2.2.2.2.2.2.1 k1_t41 k1_t42
theorem k1_off565_inb : ∀ (i : grid1.Coords) (v764 : BitVec 32) (v766 : BitVec 32) (k1_hw5 : k1_chk5 i v764 v766) (k1_t41 : Fin (k1_t41_loop v764 v766).trips) (k1_t42 : Fin (k1_t42_loop v764 v766 k1_t41).trips), ∀ a, (k1_off565 v764 v766 k1_t41 k1_t42) a + S1x16.size a ≤ S72x256.size a := fun i v764 v766 k1_hw5 k1_t41 k1_t42 => k1_hw5.1.2.2.2.2.2.2.2.2.2.2.2.2.2.2.2.2.2.1 k1_t41 k1_t42
theorem k1_off566_inb : ∀ (i : grid1.Coords) (v764 : BitVec 32) (v766 : BitVec 32) (k1_hw5 : k1_chk5 i v764 v766) (k1_t41 : Fin (k1_t41_loop v764 v766).trips) (k1_t42 : Fin (k1_t42_loop v764 v766 k1_t41).trips), ∀ a, (k1_off566 v764 v766 k1_t41 k1_t42) a + S1x16.size a ≤ S72x256.size a := fun i v764 v766 k1_hw5 k1_t41 k1_t42 => k1_hw5.1.2.2.2.2.2.2.2.2.2.2.2.2.2.2.2.2.2.2.1 k1_t41 k1_t42
theorem k1_off567_inb : ∀ (i : grid1.Coords) (v764 : BitVec 32) (v766 : BitVec 32) (k1_hw5 : k1_chk5 i v764 v766) (k1_t41 : Fin (k1_t41_loop v764 v766).trips) (k1_t42 : Fin (k1_t42_loop v764 v766 k1_t41).trips), ∀ a, (k1_off567 v764 v766 k1_t41 k1_t42) a + S1x16.size a ≤ S72x256.size a := fun i v764 v766 k1_hw5 k1_t41 k1_t42 => k1_hw5.1.2.2.2.2.2.2.2.2.2.2.2.2.2.2.2.2.2.2.2.1 k1_t41 k1_t42
theorem k1_off568_inb : ∀ (i : grid1.Coords) (v764 : BitVec 32) (v766 : BitVec 32) (k1_hw5 : k1_chk5 i v764 v766) (k1_t41 : Fin (k1_t41_loop v764 v766).trips) (k1_t42 : Fin (k1_t42_loop v764 v766 k1_t41).trips), ∀ a, (k1_off568 v764 v766 k1_t41 k1_t42) a + S1x16.size a ≤ S72x256.size a := fun i v764 v766 k1_hw5 k1_t41 k1_t42 => k1_hw5.1.2.2.2.2.2.2.2.2.2.2.2.2.2.2.2.2.2.2.2.2.1 k1_t41 k1_t42
theorem k1_t43_ok : ∀ (i : grid1.Coords) (v764 : BitVec 32) (v766 : BitVec 32) (k1_hw5 : k1_chk5 i v764 v766) (k1_t41 : Fin (k1_t41_loop v764 v766).trips), (k1_t43_loop v764 v766 k1_t41).OK := fun i v764 v766 k1_hw5 k1_t41 => k1_hw5.1.2.2.2.2.2.2.2.2.2.2.2.2.2.2.2.2.2.2.2.2.2.1 k1_t41
theorem k1_off569_inb : ∀ (i : grid1.Coords) (v764 : BitVec 32) (v766 : BitVec 32) (k1_hw5 : k1_chk5 i v764 v766) (k1_t41 : Fin (k1_t41_loop v764 v766).trips) (k1_t43 : Fin (k1_t43_loop v764 v766 k1_t41).trips), ∀ a, (k1_off569 v764 v766 k1_t41 k1_t43) a + S1x16.size a ≤ S72x256.size a := fun i v764 v766 k1_hw5 k1_t41 k1_t43 => k1_hw5.1.2.2.2.2.2.2.2.2.2.2.2.2.2.2.2.2.2.2.2.2.2.2.1 k1_t41 k1_t43
theorem k1_off570_inb : ∀ (i : grid1.Coords) (v764 : BitVec 32) (v766 : BitVec 32) (k1_hw5 : k1_chk5 i v764 v766) (k1_t41 : Fin (k1_t41_loop v764 v766).trips) (k1_t43 : Fin (k1_t43_loop v764 v766 k1_t41).trips), ∀ a, (k1_off570 v764 v766 k1_t41 k1_t43) a + S1x16.size a ≤ S72x256.size a := fun i v764 v766 k1_hw5 k1_t41 k1_t43 => k1_hw5.1.2.2.2.2.2.2.2.2.2.2.2.2.2.2.2.2.2.2.2.2.2.2.2.1 k1_t41 k1_t43
theorem k1_off571_inb : ∀ (i : grid1.Coords) (v764 : BitVec 32) (v766 : BitVec 32) (k1_hw5 : k1_chk5 i v764 v766) (k1_t41 : Fin (k1_t41_loop v764 v766).trips) (k1_t43 : Fin (k1_t43_loop v764 v766 k1_t41).trips), ∀ a, (k1_off571 v764 v766 k1_t41 k1_t43) a + S1x16.size a ≤ S72x256.size a := fun i v764 v766 k1_hw5 k1_t41 k1_t43 => k1_hw5.1.2.2.2.2.2.2.2.2.2.2.2.2.2.2.2.2.2.2.2.2.2.2.2.2.1 k1_t41 k1_t43
theorem k1_off572_inb : ∀ (i : grid1.Coords) (v764 : BitVec 32) (v766 : BitVec 32) (k1_hw5 : k1_chk5 i v764 v766) (k1_t41 : Fin (k1_t41_loop v764 v766).trips) (k1_t43 : Fin (k1_t43_loop v764 v766 k1_t41).trips), ∀ a, (k1_off572 v764 v766 k1_t41 k1_t43) a + S1x16.size a ≤ S72x256.size a := fun i v764 v766 k1_hw5 k1_t41 k1_t43 => k1_hw5.1.2.2.2.2.2.2.2.2.2.2.2.2.2.2.2.2.2.2.2.2.2.2.2.2.2.1 k1_t41 k1_t43
theorem k1_off573_inb : ∀ (i : grid1.Coords) (v764 : BitVec 32) (v766 : BitVec 32) (k1_hw5 : k1_chk5 i v764 v766) (k1_t41 : Fin (k1_t41_loop v764 v766).trips) (k1_t43 : Fin (k1_t43_loop v764 v766 k1_t41).trips), ∀ a, (k1_off573 v764 v766 k1_t41 k1_t43) a + S1x16.size a ≤ S72x256.size a := fun i v764 v766 k1_hw5 k1_t41 k1_t43 => k1_hw5.1.2.2.2.2.2.2.2.2.2.2.2.2.2.2.2.2.2.2.2.2.2.2.2.2.2.2.1 k1_t41 k1_t43
theorem k1_off574_inb : ∀ (i : grid1.Coords) (v764 : BitVec 32) (v766 : BitVec 32) (k1_hw5 : k1_chk5 i v764 v766) (k1_t41 : Fin (k1_t41_loop v764 v766).trips) (k1_t43 : Fin (k1_t43_loop v764 v766 k1_t41).trips), ∀ a, (k1_off574 v764 v766 k1_t41 k1_t43) a + S1x16.size a ≤ S72x256.size a := fun i v764 v766 k1_hw5 k1_t41 k1_t43 => k1_hw5.1.2.2.2.2.2.2.2.2.2.2.2.2.2.2.2.2.2.2.2.2.2.2.2.2.2.2.2.1 k1_t41 k1_t43
theorem k1_off575_inb : ∀ (i : grid1.Coords) (v764 : BitVec 32) (v766 : BitVec 32) (k1_hw5 : k1_chk5 i v764 v766) (k1_t41 : Fin (k1_t41_loop v764 v766).trips) (k1_t43 : Fin (k1_t43_loop v764 v766 k1_t41).trips), ∀ a, (k1_off575 v764 v766 k1_t41 k1_t43) a + S1x16.size a ≤ S72x256.size a := fun i v764 v766 k1_hw5 k1_t41 k1_t43 => k1_hw5.1.2.2.2.2.2.2.2.2.2.2.2.2.2.2.2.2.2.2.2.2.2.2.2.2.2.2.2.2.1 k1_t41 k1_t43
theorem k1_off576_inb : ∀ (i : grid1.Coords) (v764 : BitVec 32) (v766 : BitVec 32) (k1_hw5 : k1_chk5 i v764 v766) (k1_t41 : Fin (k1_t41_loop v764 v766).trips) (k1_t43 : Fin (k1_t43_loop v764 v766 k1_t41).trips), ∀ a, (k1_off576 v764 v766 k1_t41 k1_t43) a + S1x16.size a ≤ S72x256.size a := fun i v764 v766 k1_hw5 k1_t41 k1_t43 => k1_hw5.1.2.2.2.2.2.2.2.2.2.2.2.2.2.2.2.2.2.2.2.2.2.2.2.2.2.2.2.2.2.1 k1_t41 k1_t43
theorem k1_off577_inb : ∀ (i : grid1.Coords) (v764 : BitVec 32) (v766 : BitVec 32) (k1_hw5 : k1_chk5 i v764 v766) (k1_t41 : Fin (k1_t41_loop v764 v766).trips) (k1_t43 : Fin (k1_t43_loop v764 v766 k1_t41).trips), ∀ a, (k1_off577 v764 v766 k1_t41 k1_t43) a + S1x16.size a ≤ S72x256.size a := fun i v764 v766 k1_hw5 k1_t41 k1_t43 => k1_hw5.1.2.2.2.2.2.2.2.2.2.2.2.2.2.2.2.2.2.2.2.2.2.2.2.2.2.2.2.2.2.2.1 k1_t41 k1_t43
theorem k1_off578_inb : ∀ (i : grid1.Coords) (v764 : BitVec 32) (v766 : BitVec 32) (k1_hw5 : k1_chk5 i v764 v766) (k1_t41 : Fin (k1_t41_loop v764 v766).trips) (k1_t43 : Fin (k1_t43_loop v764 v766 k1_t41).trips), ∀ a, (k1_off578 v764 v766 k1_t41 k1_t43) a + S1x16.size a ≤ S72x256.size a := fun i v764 v766 k1_hw5 k1_t41 k1_t43 => k1_hw5.1.2.2.2.2.2.2.2.2.2.2.2.2.2.2.2.2.2.2.2.2.2.2.2.2.2.2.2.2.2.2.2 k1_t41 k1_t43
theorem k1_off579_inb : ∀ (i : grid1.Coords) (v764 : BitVec 32) (v766 : BitVec 32) (k1_hw5 : k1_chk5 i v764 v766) (k1_t41 : Fin (k1_t41_loop v764 v766).trips) (k1_t43 : Fin (k1_t43_loop v764 v766 k1_t41).trips), ∀ a, (k1_off579 v764 v766 k1_t41 k1_t43) a + S1x16.size a ≤ S72x256.size a := fun i v764 v766 k1_hw5 k1_t41 k1_t43 => k1_hw5.2.1.1 k1_t41 k1_t43
theorem k1_off580_inb : ∀ (i : grid1.Coords) (v764 : BitVec 32) (v766 : BitVec 32) (k1_hw5 : k1_chk5 i v764 v766) (k1_t41 : Fin (k1_t41_loop v764 v766).trips) (k1_t43 : Fin (k1_t43_loop v764 v766 k1_t41).trips), ∀ a, (k1_off580 v764 v766 k1_t41 k1_t43) a + S1x16.size a ≤ S72x256.size a := fun i v764 v766 k1_hw5 k1_t41 k1_t43 => k1_hw5.2.1.2.1 k1_t41 k1_t43
theorem k1_off581_inb : ∀ (i : grid1.Coords) (v764 : BitVec 32) (v766 : BitVec 32) (k1_hw5 : k1_chk5 i v764 v766) (k1_t41 : Fin (k1_t41_loop v764 v766).trips) (k1_t43 : Fin (k1_t43_loop v764 v766 k1_t41).trips), ∀ a, (k1_off581 v764 v766 k1_t41 k1_t43) a + S1x16.size a ≤ S72x256.size a := fun i v764 v766 k1_hw5 k1_t41 k1_t43 => k1_hw5.2.1.2.2.1 k1_t41 k1_t43
theorem k1_off582_inb : ∀ (i : grid1.Coords) (v764 : BitVec 32) (v766 : BitVec 32) (k1_hw5 : k1_chk5 i v764 v766) (k1_t41 : Fin (k1_t41_loop v764 v766).trips) (k1_t43 : Fin (k1_t43_loop v764 v766 k1_t41).trips), ∀ a, (k1_off582 v764 v766 k1_t41 k1_t43) a + S1x16.size a ≤ S72x256.size a := fun i v764 v766 k1_hw5 k1_t41 k1_t43 => k1_hw5.2.1.2.2.2.1 k1_t41 k1_t43
theorem k1_off583_inb : ∀ (i : grid1.Coords) (v764 : BitVec 32) (v766 : BitVec 32) (k1_hw5 : k1_chk5 i v764 v766) (k1_t41 : Fin (k1_t41_loop v764 v766).trips) (k1_t43 : Fin (k1_t43_loop v764 v766 k1_t41).trips), ∀ a, (k1_off583 v764 v766 k1_t41 k1_t43) a + S1x16.size a ≤ S72x256.size a := fun i v764 v766 k1_hw5 k1_t41 k1_t43 => k1_hw5.2.1.2.2.2.2.1 k1_t41 k1_t43
theorem k1_off584_inb : ∀ (i : grid1.Coords) (v764 : BitVec 32) (v766 : BitVec 32) (k1_hw5 : k1_chk5 i v764 v766) (k1_t41 : Fin (k1_t41_loop v764 v766).trips) (k1_t43 : Fin (k1_t43_loop v764 v766 k1_t41).trips), ∀ a, (k1_off584 v764 v766 k1_t41 k1_t43) a + S1x16.size a ≤ S72x256.size a := fun i v764 v766 k1_hw5 k1_t41 k1_t43 => k1_hw5.2.1.2.2.2.2.2.1 k1_t41 k1_t43
theorem k1_off585_inb : ∀ (i : grid1.Coords) (v764 : BitVec 32) (v766 : BitVec 32) (k1_hw5 : k1_chk5 i v764 v766) (k1_t41 : Fin (k1_t41_loop v764 v766).trips), ∀ (k1_h40 : k1_cond40 v764 v766 k1_t41 = 1#1), ∀ a, (k1_off585 i v764 v766 k1_t41) a + S72x256.size a ≤ S100000x512.size a := fun i v764 v766 k1_hw5 k1_t41 k1_h40 => k1_hw5.2.1.2.2.2.2.2.2.1 k1_t41 k1_h40
theorem k1_off586_inb : ∀ (i : grid1.Coords) (v764 : BitVec 32) (v766 : BitVec 32) (k1_hw5 : k1_chk5 i v764 v766) (k1_t41 : Fin (k1_t41_loop v764 v766).trips), ∀ (k1_h40 : k1_cond40 v764 v766 k1_t41 = 1#1), ∀ (k1_h41 : k1_cond41 v764 v766 k1_t41 = 1#1), ∀ a, (k1_off586 i v764 v766 k1_t41) a + S72x256.size a ≤ S100000x512.size a := fun i v764 v766 k1_hw5 k1_t41 k1_h40 k1_h41 => k1_hw5.2.1.2.2.2.2.2.2.2.1 k1_t41 k1_h40 k1_h41
theorem k1_t44_ok : ∀ (i : grid1.Coords) (v764 : BitVec 32) (v766 : BitVec 32) (k1_hw5 : k1_chk5 i v764 v766) (k1_t41 : Fin (k1_t41_loop v764 v766).trips), (k1_t44_loop v764 v766 k1_t41).OK := fun i v764 v766 k1_hw5 k1_t41 => k1_hw5.2.1.2.2.2.2.2.2.2.2.1 k1_t41
theorem k1_off587_inb : ∀ (i : grid1.Coords) (v764 : BitVec 32) (v766 : BitVec 32) (k1_hw5 : k1_chk5 i v764 v766) (k1_t41 : Fin (k1_t41_loop v764 v766).trips) (k1_t44 : Fin (k1_t44_loop v764 v766 k1_t41).trips), ∀ a, (k1_off587 v764 v766 k1_t41 k1_t44) a + S1x16.size a ≤ S72x256.size a := fun i v764 v766 k1_hw5 k1_t41 k1_t44 => k1_hw5.2.1.2.2.2.2.2.2.2.2.2.1 k1_t41 k1_t44
theorem k1_off588_inb : ∀ (i : grid1.Coords) (v764 : BitVec 32) (v766 : BitVec 32) (k1_hw5 : k1_chk5 i v764 v766) (k1_t41 : Fin (k1_t41_loop v764 v766).trips) (k1_t44 : Fin (k1_t44_loop v764 v766 k1_t41).trips), ∀ a, (k1_off588 v764 v766 k1_t41 k1_t44) a + S1x16.size a ≤ S72x256.size a := fun i v764 v766 k1_hw5 k1_t41 k1_t44 => k1_hw5.2.1.2.2.2.2.2.2.2.2.2.2.1 k1_t41 k1_t44
theorem k1_off589_inb : ∀ (i : grid1.Coords) (v764 : BitVec 32) (v766 : BitVec 32) (k1_hw5 : k1_chk5 i v764 v766) (k1_t41 : Fin (k1_t41_loop v764 v766).trips) (k1_t44 : Fin (k1_t44_loop v764 v766 k1_t41).trips), ∀ a, (k1_off589 v764 v766 k1_t41 k1_t44) a + S1x16.size a ≤ S72x256.size a := fun i v764 v766 k1_hw5 k1_t41 k1_t44 => k1_hw5.2.1.2.2.2.2.2.2.2.2.2.2.2.1 k1_t41 k1_t44
theorem k1_off590_inb : ∀ (i : grid1.Coords) (v764 : BitVec 32) (v766 : BitVec 32) (k1_hw5 : k1_chk5 i v764 v766) (k1_t41 : Fin (k1_t41_loop v764 v766).trips) (k1_t44 : Fin (k1_t44_loop v764 v766 k1_t41).trips), ∀ a, (k1_off590 v764 v766 k1_t41 k1_t44) a + S1x16.size a ≤ S72x256.size a := fun i v764 v766 k1_hw5 k1_t41 k1_t44 => k1_hw5.2.1.2.2.2.2.2.2.2.2.2.2.2.2.1 k1_t41 k1_t44
theorem k1_off591_inb : ∀ (i : grid1.Coords) (v764 : BitVec 32) (v766 : BitVec 32) (k1_hw5 : k1_chk5 i v764 v766) (k1_t41 : Fin (k1_t41_loop v764 v766).trips) (k1_t44 : Fin (k1_t44_loop v764 v766 k1_t41).trips), ∀ a, (k1_off591 v764 v766 k1_t41 k1_t44) a + S1x16.size a ≤ S72x256.size a := fun i v764 v766 k1_hw5 k1_t41 k1_t44 => k1_hw5.2.1.2.2.2.2.2.2.2.2.2.2.2.2.2.1 k1_t41 k1_t44
theorem k1_off592_inb : ∀ (i : grid1.Coords) (v764 : BitVec 32) (v766 : BitVec 32) (k1_hw5 : k1_chk5 i v764 v766) (k1_t41 : Fin (k1_t41_loop v764 v766).trips) (k1_t44 : Fin (k1_t44_loop v764 v766 k1_t41).trips), ∀ a, (k1_off592 v764 v766 k1_t41 k1_t44) a + S1x16.size a ≤ S72x256.size a := fun i v764 v766 k1_hw5 k1_t41 k1_t44 => k1_hw5.2.1.2.2.2.2.2.2.2.2.2.2.2.2.2.2.1 k1_t41 k1_t44
theorem k1_off593_inb : ∀ (i : grid1.Coords) (v764 : BitVec 32) (v766 : BitVec 32) (k1_hw5 : k1_chk5 i v764 v766) (k1_t41 : Fin (k1_t41_loop v764 v766).trips) (k1_t44 : Fin (k1_t44_loop v764 v766 k1_t41).trips), ∀ a, (k1_off593 v764 v766 k1_t41 k1_t44) a + S1x16.size a ≤ S72x256.size a := fun i v764 v766 k1_hw5 k1_t41 k1_t44 => k1_hw5.2.1.2.2.2.2.2.2.2.2.2.2.2.2.2.2.2.1 k1_t41 k1_t44
theorem k1_off594_inb : ∀ (i : grid1.Coords) (v764 : BitVec 32) (v766 : BitVec 32) (k1_hw5 : k1_chk5 i v764 v766) (k1_t41 : Fin (k1_t41_loop v764 v766).trips) (k1_t44 : Fin (k1_t44_loop v764 v766 k1_t41).trips), ∀ a, (k1_off594 v764 v766 k1_t41 k1_t44) a + S1x16.size a ≤ S72x256.size a := fun i v764 v766 k1_hw5 k1_t41 k1_t44 => k1_hw5.2.1.2.2.2.2.2.2.2.2.2.2.2.2.2.2.2.2.1 k1_t41 k1_t44
theorem k1_off595_inb : ∀ (i : grid1.Coords) (v764 : BitVec 32) (v766 : BitVec 32) (k1_hw5 : k1_chk5 i v764 v766) (k1_t41 : Fin (k1_t41_loop v764 v766).trips) (k1_t44 : Fin (k1_t44_loop v764 v766 k1_t41).trips), ∀ a, (k1_off595 v764 v766 k1_t41 k1_t44) a + S1x16.size a ≤ S72x256.size a := fun i v764 v766 k1_hw5 k1_t41 k1_t44 => k1_hw5.2.1.2.2.2.2.2.2.2.2.2.2.2.2.2.2.2.2.2.1 k1_t41 k1_t44
theorem k1_off596_inb : ∀ (i : grid1.Coords) (v764 : BitVec 32) (v766 : BitVec 32) (k1_hw5 : k1_chk5 i v764 v766) (k1_t41 : Fin (k1_t41_loop v764 v766).trips) (k1_t44 : Fin (k1_t44_loop v764 v766 k1_t41).trips), ∀ a, (k1_off596 v764 v766 k1_t41 k1_t44) a + S1x16.size a ≤ S72x256.size a := fun i v764 v766 k1_hw5 k1_t41 k1_t44 => k1_hw5.2.1.2.2.2.2.2.2.2.2.2.2.2.2.2.2.2.2.2.2.1 k1_t41 k1_t44
theorem k1_off597_inb : ∀ (i : grid1.Coords) (v764 : BitVec 32) (v766 : BitVec 32) (k1_hw5 : k1_chk5 i v764 v766) (k1_t41 : Fin (k1_t41_loop v764 v766).trips) (k1_t44 : Fin (k1_t44_loop v764 v766 k1_t41).trips), ∀ a, (k1_off597 v764 v766 k1_t41 k1_t44) a + S1x16.size a ≤ S72x256.size a := fun i v764 v766 k1_hw5 k1_t41 k1_t44 => k1_hw5.2.1.2.2.2.2.2.2.2.2.2.2.2.2.2.2.2.2.2.2.2.1 k1_t41 k1_t44
theorem k1_off598_inb : ∀ (i : grid1.Coords) (v764 : BitVec 32) (v766 : BitVec 32) (k1_hw5 : k1_chk5 i v764 v766) (k1_t41 : Fin (k1_t41_loop v764 v766).trips) (k1_t44 : Fin (k1_t44_loop v764 v766 k1_t41).trips), ∀ a, (k1_off598 v764 v766 k1_t41 k1_t44) a + S1x16.size a ≤ S72x256.size a := fun i v764 v766 k1_hw5 k1_t41 k1_t44 => k1_hw5.2.1.2.2.2.2.2.2.2.2.2.2.2.2.2.2.2.2.2.2.2.2.1 k1_t41 k1_t44
theorem k1_off599_inb : ∀ (i : grid1.Coords) (v764 : BitVec 32) (v766 : BitVec 32) (k1_hw5 : k1_chk5 i v764 v766) (k1_t41 : Fin (k1_t41_loop v764 v766).trips) (k1_t44 : Fin (k1_t44_loop v764 v766 k1_t41).trips), ∀ a, (k1_off599 v764 v766 k1_t41 k1_t44) a + S1x16.size a ≤ S72x256.size a := fun i v764 v766 k1_hw5 k1_t41 k1_t44 => k1_hw5.2.1.2.2.2.2.2.2.2.2.2.2.2.2.2.2.2.2.2.2.2.2.2.1 k1_t41 k1_t44
theorem k1_off600_inb : ∀ (i : grid1.Coords) (v764 : BitVec 32) (v766 : BitVec 32) (k1_hw5 : k1_chk5 i v764 v766) (k1_t41 : Fin (k1_t41_loop v764 v766).trips) (k1_t44 : Fin (k1_t44_loop v764 v766 k1_t41).trips), ∀ a, (k1_off600 v764 v766 k1_t41 k1_t44) a + S1x16.size a ≤ S72x256.size a := fun i v764 v766 k1_hw5 k1_t41 k1_t44 => k1_hw5.2.1.2.2.2.2.2.2.2.2.2.2.2.2.2.2.2.2.2.2.2.2.2.2.1 k1_t41 k1_t44
theorem k1_off601_inb : ∀ (i : grid1.Coords) (v764 : BitVec 32) (v766 : BitVec 32) (k1_hw5 : k1_chk5 i v764 v766) (k1_t41 : Fin (k1_t41_loop v764 v766).trips) (k1_t44 : Fin (k1_t44_loop v764 v766 k1_t41).trips), ∀ a, (k1_off601 v764 v766 k1_t41 k1_t44) a + S1x16.size a ≤ S72x256.size a := fun i v764 v766 k1_hw5 k1_t41 k1_t44 => k1_hw5.2.1.2.2.2.2.2.2.2.2.2.2.2.2.2.2.2.2.2.2.2.2.2.2.2.1 k1_t41 k1_t44
theorem k1_off602_inb : ∀ (i : grid1.Coords) (v764 : BitVec 32) (v766 : BitVec 32) (k1_hw5 : k1_chk5 i v764 v766) (k1_t41 : Fin (k1_t41_loop v764 v766).trips) (k1_t44 : Fin (k1_t44_loop v764 v766 k1_t41).trips), ∀ a, (k1_off602 v764 v766 k1_t41 k1_t44) a + S1x16.size a ≤ S72x256.size a := fun i v764 v766 k1_hw5 k1_t41 k1_t44 => k1_hw5.2.1.2.2.2.2.2.2.2.2.2.2.2.2.2.2.2.2.2.2.2.2.2.2.2.2.1 k1_t41 k1_t44
theorem k1_t45_ok : ∀ (i : grid1.Coords) (v764 : BitVec 32) (v766 : BitVec 32) (k1_hw5 : k1_chk5 i v764 v766) (k1_t41 : Fin (k1_t41_loop v764 v766).trips), (k1_t45_loop v764 v766 k1_t41).OK := fun i v764 v766 k1_hw5 k1_t41 => k1_hw5.2.1.2.2.2.2.2.2.2.2.2.2.2.2.2.2.2.2.2.2.2.2.2.2.2.2.2.1 k1_t41
theorem k1_off603_inb : ∀ (i : grid1.Coords) (v764 : BitVec 32) (v766 : BitVec 32) (k1_hw5 : k1_chk5 i v764 v766) (k1_t41 : Fin (k1_t41_loop v764 v766).trips) (k1_t45 : Fin (k1_t45_loop v764 v766 k1_t41).trips), ∀ a, (k1_off603 v764 v766 k1_t41 k1_t45) a + S1x16.size a ≤ S72x256.size a := fun i v764 v766 k1_hw5 k1_t41 k1_t45 => k1_hw5.2.1.2.2.2.2.2.2.2.2.2.2.2.2.2.2.2.2.2.2.2.2.2.2.2.2.2.2.1 k1_t41 k1_t45
theorem k1_off604_inb : ∀ (i : grid1.Coords) (v764 : BitVec 32) (v766 : BitVec 32) (k1_hw5 : k1_chk5 i v764 v766) (k1_t41 : Fin (k1_t41_loop v764 v766).trips) (k1_t45 : Fin (k1_t45_loop v764 v766 k1_t41).trips), ∀ a, (k1_off604 v764 v766 k1_t41 k1_t45) a + S1x16.size a ≤ S72x256.size a := fun i v764 v766 k1_hw5 k1_t41 k1_t45 => k1_hw5.2.1.2.2.2.2.2.2.2.2.2.2.2.2.2.2.2.2.2.2.2.2.2.2.2.2.2.2.2.1 k1_t41 k1_t45
theorem k1_off605_inb : ∀ (i : grid1.Coords) (v764 : BitVec 32) (v766 : BitVec 32) (k1_hw5 : k1_chk5 i v764 v766) (k1_t41 : Fin (k1_t41_loop v764 v766).trips) (k1_t45 : Fin (k1_t45_loop v764 v766 k1_t41).trips), ∀ a, (k1_off605 v764 v766 k1_t41 k1_t45) a + S1x16.size a ≤ S72x256.size a := fun i v764 v766 k1_hw5 k1_t41 k1_t45 => k1_hw5.2.1.2.2.2.2.2.2.2.2.2.2.2.2.2.2.2.2.2.2.2.2.2.2.2.2.2.2.2.2.1 k1_t41 k1_t45
theorem k1_off606_inb : ∀ (i : grid1.Coords) (v764 : BitVec 32) (v766 : BitVec 32) (k1_hw5 : k1_chk5 i v764 v766) (k1_t41 : Fin (k1_t41_loop v764 v766).trips) (k1_t45 : Fin (k1_t45_loop v764 v766 k1_t41).trips), ∀ a, (k1_off606 v764 v766 k1_t41 k1_t45) a + S1x16.size a ≤ S72x256.size a := fun i v764 v766 k1_hw5 k1_t41 k1_t45 => k1_hw5.2.1.2.2.2.2.2.2.2.2.2.2.2.2.2.2.2.2.2.2.2.2.2.2.2.2.2.2.2.2.2.1 k1_t41 k1_t45
theorem k1_off607_inb : ∀ (i : grid1.Coords) (v764 : BitVec 32) (v766 : BitVec 32) (k1_hw5 : k1_chk5 i v764 v766) (k1_t41 : Fin (k1_t41_loop v764 v766).trips) (k1_t45 : Fin (k1_t45_loop v764 v766 k1_t41).trips), ∀ a, (k1_off607 v764 v766 k1_t41 k1_t45) a + S1x16.size a ≤ S72x256.size a := fun i v764 v766 k1_hw5 k1_t41 k1_t45 => k1_hw5.2.1.2.2.2.2.2.2.2.2.2.2.2.2.2.2.2.2.2.2.2.2.2.2.2.2.2.2.2.2.2.2.1 k1_t41 k1_t45
theorem k1_off608_inb : ∀ (i : grid1.Coords) (v764 : BitVec 32) (v766 : BitVec 32) (k1_hw5 : k1_chk5 i v764 v766) (k1_t41 : Fin (k1_t41_loop v764 v766).trips) (k1_t45 : Fin (k1_t45_loop v764 v766 k1_t41).trips), ∀ a, (k1_off608 v764 v766 k1_t41 k1_t45) a + S1x16.size a ≤ S72x256.size a := fun i v764 v766 k1_hw5 k1_t41 k1_t45 => k1_hw5.2.1.2.2.2.2.2.2.2.2.2.2.2.2.2.2.2.2.2.2.2.2.2.2.2.2.2.2.2.2.2.2.2 k1_t41 k1_t45
theorem k1_off609_inb : ∀ (i : grid1.Coords) (v764 : BitVec 32) (v766 : BitVec 32) (k1_hw5 : k1_chk5 i v764 v766) (k1_t41 : Fin (k1_t41_loop v764 v766).trips) (k1_t45 : Fin (k1_t45_loop v764 v766 k1_t41).trips), ∀ a, (k1_off609 v764 v766 k1_t41 k1_t45) a + S1x16.size a ≤ S72x256.size a := fun i v764 v766 k1_hw5 k1_t41 k1_t45 => k1_hw5.2.2.1.1 k1_t41 k1_t45
theorem k1_off610_inb : ∀ (i : grid1.Coords) (v764 : BitVec 32) (v766 : BitVec 32) (k1_hw5 : k1_chk5 i v764 v766) (k1_t41 : Fin (k1_t41_loop v764 v766).trips) (k1_t45 : Fin (k1_t45_loop v764 v766 k1_t41).trips), ∀ a, (k1_off610 v764 v766 k1_t41 k1_t45) a + S1x16.size a ≤ S72x256.size a := fun i v764 v766 k1_hw5 k1_t41 k1_t45 => k1_hw5.2.2.1.2.1 k1_t41 k1_t45
theorem k1_off611_inb : ∀ (i : grid1.Coords) (v764 : BitVec 32) (v766 : BitVec 32) (k1_hw5 : k1_chk5 i v764 v766) (k1_t41 : Fin (k1_t41_loop v764 v766).trips) (k1_t45 : Fin (k1_t45_loop v764 v766 k1_t41).trips), ∀ a, (k1_off611 v764 v766 k1_t41 k1_t45) a + S1x16.size a ≤ S72x256.size a := fun i v764 v766 k1_hw5 k1_t41 k1_t45 => k1_hw5.2.2.1.2.2.1 k1_t41 k1_t45
theorem k1_off612_inb : ∀ (i : grid1.Coords) (v764 : BitVec 32) (v766 : BitVec 32) (k1_hw5 : k1_chk5 i v764 v766) (k1_t41 : Fin (k1_t41_loop v764 v766).trips) (k1_t45 : Fin (k1_t45_loop v764 v766 k1_t41).trips), ∀ a, (k1_off612 v764 v766 k1_t41 k1_t45) a + S1x16.size a ≤ S72x256.size a := fun i v764 v766 k1_hw5 k1_t41 k1_t45 => k1_hw5.2.2.1.2.2.2.1 k1_t41 k1_t45
theorem k1_off613_inb : ∀ (i : grid1.Coords) (v764 : BitVec 32) (v766 : BitVec 32) (k1_hw5 : k1_chk5 i v764 v766) (k1_t41 : Fin (k1_t41_loop v764 v766).trips) (k1_t45 : Fin (k1_t45_loop v764 v766 k1_t41).trips), ∀ a, (k1_off613 v764 v766 k1_t41 k1_t45) a + S1x16.size a ≤ S72x256.size a := fun i v764 v766 k1_hw5 k1_t41 k1_t45 => k1_hw5.2.2.1.2.2.2.2.1 k1_t41 k1_t45
theorem k1_off614_inb : ∀ (i : grid1.Coords) (v764 : BitVec 32) (v766 : BitVec 32) (k1_hw5 : k1_chk5 i v764 v766) (k1_t41 : Fin (k1_t41_loop v764 v766).trips) (k1_t45 : Fin (k1_t45_loop v764 v766 k1_t41).trips), ∀ a, (k1_off614 v764 v766 k1_t41 k1_t45) a + S1x16.size a ≤ S72x256.size a := fun i v764 v766 k1_hw5 k1_t41 k1_t45 => k1_hw5.2.2.1.2.2.2.2.2.1 k1_t41 k1_t45
theorem k1_off615_inb : ∀ (i : grid1.Coords) (v764 : BitVec 32) (v766 : BitVec 32) (k1_hw5 : k1_chk5 i v764 v766) (k1_t41 : Fin (k1_t41_loop v764 v766).trips) (k1_t45 : Fin (k1_t45_loop v764 v766 k1_t41).trips), ∀ a, (k1_off615 v764 v766 k1_t41 k1_t45) a + S1x16.size a ≤ S72x256.size a := fun i v764 v766 k1_hw5 k1_t41 k1_t45 => k1_hw5.2.2.1.2.2.2.2.2.2.1 k1_t41 k1_t45
theorem k1_off616_inb : ∀ (i : grid1.Coords) (v764 : BitVec 32) (v766 : BitVec 32) (k1_hw5 : k1_chk5 i v764 v766) (k1_t41 : Fin (k1_t41_loop v764 v766).trips) (k1_t45 : Fin (k1_t45_loop v764 v766 k1_t41).trips), ∀ a, (k1_off616 v764 v766 k1_t41 k1_t45) a + S1x16.size a ≤ S72x256.size a := fun i v764 v766 k1_hw5 k1_t41 k1_t45 => k1_hw5.2.2.1.2.2.2.2.2.2.2.1 k1_t41 k1_t45
theorem k1_off617_inb : ∀ (i : grid1.Coords) (v764 : BitVec 32) (v766 : BitVec 32) (k1_hw5 : k1_chk5 i v764 v766) (k1_t41 : Fin (k1_t41_loop v764 v766).trips) (k1_t45 : Fin (k1_t45_loop v764 v766 k1_t41).trips), ∀ a, (k1_off617 v764 v766 k1_t41 k1_t45) a + S1x16.size a ≤ S72x256.size a := fun i v764 v766 k1_hw5 k1_t41 k1_t45 => k1_hw5.2.2.1.2.2.2.2.2.2.2.2.1 k1_t41 k1_t45
theorem k1_off618_inb : ∀ (i : grid1.Coords) (v764 : BitVec 32) (v766 : BitVec 32) (k1_hw5 : k1_chk5 i v764 v766) (k1_t41 : Fin (k1_t41_loop v764 v766).trips) (k1_t45 : Fin (k1_t45_loop v764 v766 k1_t41).trips), ∀ a, (k1_off618 v764 v766 k1_t41 k1_t45) a + S1x16.size a ≤ S72x256.size a := fun i v764 v766 k1_hw5 k1_t41 k1_t45 => k1_hw5.2.2.1.2.2.2.2.2.2.2.2.2.1 k1_t41 k1_t45
theorem k1_t46_ok : ∀ (i : grid1.Coords) (v764 : BitVec 32) (v766 : BitVec 32) (k1_hw5 : k1_chk5 i v764 v766), (k1_t46_loop v764 v766).OK := fun i v764 v766 k1_hw5 => k1_hw5.2.2.1.2.2.2.2.2.2.2.2.2.2.1
theorem k1_off619_inb : ∀ (i : grid1.Coords) (v764 : BitVec 32) (v766 : BitVec 32) (k1_hw5 : k1_chk5 i v764 v766) (k1_t46 : Fin (k1_t46_loop v764 v766).trips), ∀ (k1_h42 : k1_cond42 v764 v766 k1_t46 = 1#1), ∀ a, (k1_off619 i v764 v766 k1_t46) a + S72x256.size a ≤ S100000x512.size a := fun i v764 v766 k1_hw5 k1_t46 k1_h42 => k1_hw5.2.2.1.2.2.2.2.2.2.2.2.2.2.2.1 k1_t46 k1_h42
theorem k1_off620_inb : ∀ (i : grid1.Coords) (v764 : BitVec 32) (v766 : BitVec 32) (k1_hw5 : k1_chk5 i v764 v766) (k1_t46 : Fin (k1_t46_loop v764 v766).trips), ∀ (k1_h42 : k1_cond42 v764 v766 k1_t46 = 1#1), ∀ (k1_h43 : k1_cond43 v764 v766 k1_t46 = 1#1), ∀ a, (k1_off620 i v764 v766 k1_t46) a + S72x256.size a ≤ S100000x512.size a := fun i v764 v766 k1_hw5 k1_t46 k1_h42 k1_h43 => k1_hw5.2.2.1.2.2.2.2.2.2.2.2.2.2.2.2.1 k1_t46 k1_h42 k1_h43
theorem k1_t47_ok : ∀ (i : grid1.Coords) (v764 : BitVec 32) (v766 : BitVec 32) (k1_hw5 : k1_chk5 i v764 v766) (k1_t46 : Fin (k1_t46_loop v764 v766).trips), (k1_t47_loop v764 v766 k1_t46).OK := fun i v764 v766 k1_hw5 k1_t46 => k1_hw5.2.2.1.2.2.2.2.2.2.2.2.2.2.2.2.2.1 k1_t46
theorem k1_off621_inb : ∀ (i : grid1.Coords) (v764 : BitVec 32) (v766 : BitVec 32) (k1_hw5 : k1_chk5 i v764 v766) (k1_t46 : Fin (k1_t46_loop v764 v766).trips) (k1_t47 : Fin (k1_t47_loop v764 v766 k1_t46).trips), ∀ a, (k1_off621 v764 v766 k1_t46 k1_t47) a + S1x16.size a ≤ S72x256.size a := fun i v764 v766 k1_hw5 k1_t46 k1_t47 => k1_hw5.2.2.1.2.2.2.2.2.2.2.2.2.2.2.2.2.2.1 k1_t46 k1_t47
theorem k1_off622_inb : ∀ (i : grid1.Coords) (v764 : BitVec 32) (v766 : BitVec 32) (k1_hw5 : k1_chk5 i v764 v766) (k1_t46 : Fin (k1_t46_loop v764 v766).trips) (k1_t47 : Fin (k1_t47_loop v764 v766 k1_t46).trips), ∀ a, (k1_off622 v764 v766 k1_t46 k1_t47) a + S1x16.size a ≤ S72x256.size a := fun i v764 v766 k1_hw5 k1_t46 k1_t47 => k1_hw5.2.2.1.2.2.2.2.2.2.2.2.2.2.2.2.2.2.2.1 k1_t46 k1_t47
theorem k1_off623_inb : ∀ (i : grid1.Coords) (v764 : BitVec 32) (v766 : BitVec 32) (k1_hw5 : k1_chk5 i v764 v766) (k1_t46 : Fin (k1_t46_loop v764 v766).trips) (k1_t47 : Fin (k1_t47_loop v764 v766 k1_t46).trips), ∀ a, (k1_off623 v764 v766 k1_t46 k1_t47) a + S1x16.size a ≤ S72x256.size a := fun i v764 v766 k1_hw5 k1_t46 k1_t47 => k1_hw5.2.2.1.2.2.2.2.2.2.2.2.2.2.2.2.2.2.2.2.1 k1_t46 k1_t47
theorem k1_off624_inb : ∀ (i : grid1.Coords) (v764 : BitVec 32) (v766 : BitVec 32) (k1_hw5 : k1_chk5 i v764 v766) (k1_t46 : Fin (k1_t46_loop v764 v766).trips) (k1_t47 : Fin (k1_t47_loop v764 v766 k1_t46).trips), ∀ a, (k1_off624 v764 v766 k1_t46 k1_t47) a + S1x16.size a ≤ S72x256.size a := fun i v764 v766 k1_hw5 k1_t46 k1_t47 => k1_hw5.2.2.1.2.2.2.2.2.2.2.2.2.2.2.2.2.2.2.2.2.1 k1_t46 k1_t47
theorem k1_off625_inb : ∀ (i : grid1.Coords) (v764 : BitVec 32) (v766 : BitVec 32) (k1_hw5 : k1_chk5 i v764 v766) (k1_t46 : Fin (k1_t46_loop v764 v766).trips) (k1_t47 : Fin (k1_t47_loop v764 v766 k1_t46).trips), ∀ a, (k1_off625 v764 v766 k1_t46 k1_t47) a + S1x16.size a ≤ S72x256.size a := fun i v764 v766 k1_hw5 k1_t46 k1_t47 => k1_hw5.2.2.1.2.2.2.2.2.2.2.2.2.2.2.2.2.2.2.2.2.2.1 k1_t46 k1_t47
theorem k1_off626_inb : ∀ (i : grid1.Coords) (v764 : BitVec 32) (v766 : BitVec 32) (k1_hw5 : k1_chk5 i v764 v766) (k1_t46 : Fin (k1_t46_loop v764 v766).trips) (k1_t47 : Fin (k1_t47_loop v764 v766 k1_t46).trips), ∀ a, (k1_off626 v764 v766 k1_t46 k1_t47) a + S1x16.size a ≤ S72x256.size a := fun i v764 v766 k1_hw5 k1_t46 k1_t47 => k1_hw5.2.2.1.2.2.2.2.2.2.2.2.2.2.2.2.2.2.2.2.2.2.2.1 k1_t46 k1_t47
theorem k1_off627_inb : ∀ (i : grid1.Coords) (v764 : BitVec 32) (v766 : BitVec 32) (k1_hw5 : k1_chk5 i v764 v766) (k1_t46 : Fin (k1_t46_loop v764 v766).trips) (k1_t47 : Fin (k1_t47_loop v764 v766 k1_t46).trips), ∀ a, (k1_off627 v764 v766 k1_t46 k1_t47) a + S1x16.size a ≤ S72x256.size a := fun i v764 v766 k1_hw5 k1_t46 k1_t47 => k1_hw5.2.2.1.2.2.2.2.2.2.2.2.2.2.2.2.2.2.2.2.2.2.2.2.1 k1_t46 k1_t47
theorem k1_off628_inb : ∀ (i : grid1.Coords) (v764 : BitVec 32) (v766 : BitVec 32) (k1_hw5 : k1_chk5 i v764 v766) (k1_t46 : Fin (k1_t46_loop v764 v766).trips) (k1_t47 : Fin (k1_t47_loop v764 v766 k1_t46).trips), ∀ a, (k1_off628 v764 v766 k1_t46 k1_t47) a + S1x16.size a ≤ S72x256.size a := fun i v764 v766 k1_hw5 k1_t46 k1_t47 => k1_hw5.2.2.1.2.2.2.2.2.2.2.2.2.2.2.2.2.2.2.2.2.2.2.2.2.1 k1_t46 k1_t47
theorem k1_off629_inb : ∀ (i : grid1.Coords) (v764 : BitVec 32) (v766 : BitVec 32) (k1_hw5 : k1_chk5 i v764 v766) (k1_t46 : Fin (k1_t46_loop v764 v766).trips) (k1_t47 : Fin (k1_t47_loop v764 v766 k1_t46).trips), ∀ a, (k1_off629 v764 v766 k1_t46 k1_t47) a + S1x16.size a ≤ S72x256.size a := fun i v764 v766 k1_hw5 k1_t46 k1_t47 => k1_hw5.2.2.1.2.2.2.2.2.2.2.2.2.2.2.2.2.2.2.2.2.2.2.2.2.2.1 k1_t46 k1_t47
theorem k1_off630_inb : ∀ (i : grid1.Coords) (v764 : BitVec 32) (v766 : BitVec 32) (k1_hw5 : k1_chk5 i v764 v766) (k1_t46 : Fin (k1_t46_loop v764 v766).trips) (k1_t47 : Fin (k1_t47_loop v764 v766 k1_t46).trips), ∀ a, (k1_off630 v764 v766 k1_t46 k1_t47) a + S1x16.size a ≤ S72x256.size a := fun i v764 v766 k1_hw5 k1_t46 k1_t47 => k1_hw5.2.2.1.2.2.2.2.2.2.2.2.2.2.2.2.2.2.2.2.2.2.2.2.2.2.2.1 k1_t46 k1_t47
theorem k1_off631_inb : ∀ (i : grid1.Coords) (v764 : BitVec 32) (v766 : BitVec 32) (k1_hw5 : k1_chk5 i v764 v766) (k1_t46 : Fin (k1_t46_loop v764 v766).trips) (k1_t47 : Fin (k1_t47_loop v764 v766 k1_t46).trips), ∀ a, (k1_off631 v764 v766 k1_t46 k1_t47) a + S1x16.size a ≤ S72x256.size a := fun i v764 v766 k1_hw5 k1_t46 k1_t47 => k1_hw5.2.2.1.2.2.2.2.2.2.2.2.2.2.2.2.2.2.2.2.2.2.2.2.2.2.2.2.1 k1_t46 k1_t47
theorem k1_off632_inb : ∀ (i : grid1.Coords) (v764 : BitVec 32) (v766 : BitVec 32) (k1_hw5 : k1_chk5 i v764 v766) (k1_t46 : Fin (k1_t46_loop v764 v766).trips) (k1_t47 : Fin (k1_t47_loop v764 v766 k1_t46).trips), ∀ a, (k1_off632 v764 v766 k1_t46 k1_t47) a + S1x16.size a ≤ S72x256.size a := fun i v764 v766 k1_hw5 k1_t46 k1_t47 => k1_hw5.2.2.1.2.2.2.2.2.2.2.2.2.2.2.2.2.2.2.2.2.2.2.2.2.2.2.2.2.1 k1_t46 k1_t47
theorem k1_off633_inb : ∀ (i : grid1.Coords) (v764 : BitVec 32) (v766 : BitVec 32) (k1_hw5 : k1_chk5 i v764 v766) (k1_t46 : Fin (k1_t46_loop v764 v766).trips) (k1_t47 : Fin (k1_t47_loop v764 v766 k1_t46).trips), ∀ a, (k1_off633 v764 v766 k1_t46 k1_t47) a + S1x16.size a ≤ S72x256.size a := fun i v764 v766 k1_hw5 k1_t46 k1_t47 => k1_hw5.2.2.1.2.2.2.2.2.2.2.2.2.2.2.2.2.2.2.2.2.2.2.2.2.2.2.2.2.2.1 k1_t46 k1_t47
theorem k1_off634_inb : ∀ (i : grid1.Coords) (v764 : BitVec 32) (v766 : BitVec 32) (k1_hw5 : k1_chk5 i v764 v766) (k1_t46 : Fin (k1_t46_loop v764 v766).trips) (k1_t47 : Fin (k1_t47_loop v764 v766 k1_t46).trips), ∀ a, (k1_off634 v764 v766 k1_t46 k1_t47) a + S1x16.size a ≤ S72x256.size a := fun i v764 v766 k1_hw5 k1_t46 k1_t47 => k1_hw5.2.2.1.2.2.2.2.2.2.2.2.2.2.2.2.2.2.2.2.2.2.2.2.2.2.2.2.2.2.2.1 k1_t46 k1_t47
theorem k1_off635_inb : ∀ (i : grid1.Coords) (v764 : BitVec 32) (v766 : BitVec 32) (k1_hw5 : k1_chk5 i v764 v766) (k1_t46 : Fin (k1_t46_loop v764 v766).trips) (k1_t47 : Fin (k1_t47_loop v764 v766 k1_t46).trips), ∀ a, (k1_off635 v764 v766 k1_t46 k1_t47) a + S1x16.size a ≤ S72x256.size a := fun i v764 v766 k1_hw5 k1_t46 k1_t47 => k1_hw5.2.2.1.2.2.2.2.2.2.2.2.2.2.2.2.2.2.2.2.2.2.2.2.2.2.2.2.2.2.2.2.1 k1_t46 k1_t47
theorem k1_off636_inb : ∀ (i : grid1.Coords) (v764 : BitVec 32) (v766 : BitVec 32) (k1_hw5 : k1_chk5 i v764 v766) (k1_t46 : Fin (k1_t46_loop v764 v766).trips) (k1_t47 : Fin (k1_t47_loop v764 v766 k1_t46).trips), ∀ a, (k1_off636 v764 v766 k1_t46 k1_t47) a + S1x16.size a ≤ S72x256.size a := fun i v764 v766 k1_hw5 k1_t46 k1_t47 => k1_hw5.2.2.1.2.2.2.2.2.2.2.2.2.2.2.2.2.2.2.2.2.2.2.2.2.2.2.2.2.2.2.2.2.1 k1_t46 k1_t47
theorem k1_t48_ok : ∀ (i : grid1.Coords) (v764 : BitVec 32) (v766 : BitVec 32) (k1_hw5 : k1_chk5 i v764 v766) (k1_t46 : Fin (k1_t46_loop v764 v766).trips), (k1_t48_loop v764 v766 k1_t46).OK := fun i v764 v766 k1_hw5 k1_t46 => k1_hw5.2.2.1.2.2.2.2.2.2.2.2.2.2.2.2.2.2.2.2.2.2.2.2.2.2.2.2.2.2.2.2.2.2.1 k1_t46
theorem k1_off637_inb : ∀ (i : grid1.Coords) (v764 : BitVec 32) (v766 : BitVec 32) (k1_hw5 : k1_chk5 i v764 v766) (k1_t46 : Fin (k1_t46_loop v764 v766).trips) (k1_t48 : Fin (k1_t48_loop v764 v766 k1_t46).trips), ∀ a, (k1_off637 v764 v766 k1_t46 k1_t48) a + S1x16.size a ≤ S72x256.size a := fun i v764 v766 k1_hw5 k1_t46 k1_t48 => k1_hw5.2.2.1.2.2.2.2.2.2.2.2.2.2.2.2.2.2.2.2.2.2.2.2.2.2.2.2.2.2.2.2.2.2.2 k1_t46 k1_t48
theorem k1_off638_inb : ∀ (i : grid1.Coords) (v764 : BitVec 32) (v766 : BitVec 32) (k1_hw5 : k1_chk5 i v764 v766) (k1_t46 : Fin (k1_t46_loop v764 v766).trips) (k1_t48 : Fin (k1_t48_loop v764 v766 k1_t46).trips), ∀ a, (k1_off638 v764 v766 k1_t46 k1_t48) a + S1x16.size a ≤ S72x256.size a := fun i v764 v766 k1_hw5 k1_t46 k1_t48 => k1_hw5.2.2.2.1.1 k1_t46 k1_t48
theorem k1_off639_inb : ∀ (i : grid1.Coords) (v764 : BitVec 32) (v766 : BitVec 32) (k1_hw5 : k1_chk5 i v764 v766) (k1_t46 : Fin (k1_t46_loop v764 v766).trips) (k1_t48 : Fin (k1_t48_loop v764 v766 k1_t46).trips), ∀ a, (k1_off639 v764 v766 k1_t46 k1_t48) a + S1x16.size a ≤ S72x256.size a := fun i v764 v766 k1_hw5 k1_t46 k1_t48 => k1_hw5.2.2.2.1.2.1 k1_t46 k1_t48
theorem k1_off640_inb : ∀ (i : grid1.Coords) (v764 : BitVec 32) (v766 : BitVec 32) (k1_hw5 : k1_chk5 i v764 v766) (k1_t46 : Fin (k1_t46_loop v764 v766).trips) (k1_t48 : Fin (k1_t48_loop v764 v766 k1_t46).trips), ∀ a, (k1_off640 v764 v766 k1_t46 k1_t48) a + S1x16.size a ≤ S72x256.size a := fun i v764 v766 k1_hw5 k1_t46 k1_t48 => k1_hw5.2.2.2.1.2.2.1 k1_t46 k1_t48
theorem k1_off641_inb : ∀ (i : grid1.Coords) (v764 : BitVec 32) (v766 : BitVec 32) (k1_hw5 : k1_chk5 i v764 v766) (k1_t46 : Fin (k1_t46_loop v764 v766).trips) (k1_t48 : Fin (k1_t48_loop v764 v766 k1_t46).trips), ∀ a, (k1_off641 v764 v766 k1_t46 k1_t48) a + S1x16.size a ≤ S72x256.size a := fun i v764 v766 k1_hw5 k1_t46 k1_t48 => k1_hw5.2.2.2.1.2.2.2.1 k1_t46 k1_t48
theorem k1_off642_inb : ∀ (i : grid1.Coords) (v764 : BitVec 32) (v766 : BitVec 32) (k1_hw5 : k1_chk5 i v764 v766) (k1_t46 : Fin (k1_t46_loop v764 v766).trips) (k1_t48 : Fin (k1_t48_loop v764 v766 k1_t46).trips), ∀ a, (k1_off642 v764 v766 k1_t46 k1_t48) a + S1x16.size a ≤ S72x256.size a := fun i v764 v766 k1_hw5 k1_t46 k1_t48 => k1_hw5.2.2.2.1.2.2.2.2.1 k1_t46 k1_t48
theorem k1_off643_inb : ∀ (i : grid1.Coords) (v764 : BitVec 32) (v766 : BitVec 32) (k1_hw5 : k1_chk5 i v764 v766) (k1_t46 : Fin (k1_t46_loop v764 v766).trips) (k1_t48 : Fin (k1_t48_loop v764 v766 k1_t46).trips), ∀ a, (k1_off643 v764 v766 k1_t46 k1_t48) a + S1x16.size a ≤ S72x256.size a := fun i v764 v766 k1_hw5 k1_t46 k1_t48 => k1_hw5.2.2.2.1.2.2.2.2.2.1 k1_t46 k1_t48
theorem k1_off644_inb : ∀ (i : grid1.Coords) (v764 : BitVec 32) (v766 : BitVec 32) (k1_hw5 : k1_chk5 i v764 v766) (k1_t46 : Fin (k1_t46_loop v764 v766).trips) (k1_t48 : Fin (k1_t48_loop v764 v766 k1_t46).trips), ∀ a, (k1_off644 v764 v766 k1_t46 k1_t48) a + S1x16.size a ≤ S72x256.size a := fun i v764 v766 k1_hw5 k1_t46 k1_t48 => k1_hw5.2.2.2.1.2.2.2.2.2.2.1 k1_t46 k1_t48
theorem k1_off645_inb : ∀ (i : grid1.Coords) (v764 : BitVec 32) (v766 : BitVec 32) (k1_hw5 : k1_chk5 i v764 v766) (k1_t46 : Fin (k1_t46_loop v764 v766).trips) (k1_t48 : Fin (k1_t48_loop v764 v766 k1_t46).trips), ∀ a, (k1_off645 v764 v766 k1_t46 k1_t48) a + S1x16.size a ≤ S72x256.size a := fun i v764 v766 k1_hw5 k1_t46 k1_t48 => k1_hw5.2.2.2.1.2.2.2.2.2.2.2.1 k1_t46 k1_t48
theorem k1_off646_inb : ∀ (i : grid1.Coords) (v764 : BitVec 32) (v766 : BitVec 32) (k1_hw5 : k1_chk5 i v764 v766) (k1_t46 : Fin (k1_t46_loop v764 v766).trips) (k1_t48 : Fin (k1_t48_loop v764 v766 k1_t46).trips), ∀ a, (k1_off646 v764 v766 k1_t46 k1_t48) a + S1x16.size a ≤ S72x256.size a := fun i v764 v766 k1_hw5 k1_t46 k1_t48 => k1_hw5.2.2.2.1.2.2.2.2.2.2.2.2.1 k1_t46 k1_t48
theorem k1_off647_inb : ∀ (i : grid1.Coords) (v764 : BitVec 32) (v766 : BitVec 32) (k1_hw5 : k1_chk5 i v764 v766) (k1_t46 : Fin (k1_t46_loop v764 v766).trips) (k1_t48 : Fin (k1_t48_loop v764 v766 k1_t46).trips), ∀ a, (k1_off647 v764 v766 k1_t46 k1_t48) a + S1x16.size a ≤ S72x256.size a := fun i v764 v766 k1_hw5 k1_t46 k1_t48 => k1_hw5.2.2.2.1.2.2.2.2.2.2.2.2.2.1 k1_t46 k1_t48
theorem k1_off648_inb : ∀ (i : grid1.Coords) (v764 : BitVec 32) (v766 : BitVec 32) (k1_hw5 : k1_chk5 i v764 v766) (k1_t46 : Fin (k1_t46_loop v764 v766).trips) (k1_t48 : Fin (k1_t48_loop v764 v766 k1_t46).trips), ∀ a, (k1_off648 v764 v766 k1_t46 k1_t48) a + S1x16.size a ≤ S72x256.size a := fun i v764 v766 k1_hw5 k1_t46 k1_t48 => k1_hw5.2.2.2.1.2.2.2.2.2.2.2.2.2.2.1 k1_t46 k1_t48
theorem k1_off649_inb : ∀ (i : grid1.Coords) (v764 : BitVec 32) (v766 : BitVec 32) (k1_hw5 : k1_chk5 i v764 v766) (k1_t46 : Fin (k1_t46_loop v764 v766).trips) (k1_t48 : Fin (k1_t48_loop v764 v766 k1_t46).trips), ∀ a, (k1_off649 v764 v766 k1_t46 k1_t48) a + S1x16.size a ≤ S72x256.size a := fun i v764 v766 k1_hw5 k1_t46 k1_t48 => k1_hw5.2.2.2.1.2.2.2.2.2.2.2.2.2.2.2.1 k1_t46 k1_t48
theorem k1_off650_inb : ∀ (i : grid1.Coords) (v764 : BitVec 32) (v766 : BitVec 32) (k1_hw5 : k1_chk5 i v764 v766) (k1_t46 : Fin (k1_t46_loop v764 v766).trips) (k1_t48 : Fin (k1_t48_loop v764 v766 k1_t46).trips), ∀ a, (k1_off650 v764 v766 k1_t46 k1_t48) a + S1x16.size a ≤ S72x256.size a := fun i v764 v766 k1_hw5 k1_t46 k1_t48 => k1_hw5.2.2.2.1.2.2.2.2.2.2.2.2.2.2.2.2.1 k1_t46 k1_t48
theorem k1_off651_inb : ∀ (i : grid1.Coords) (v764 : BitVec 32) (v766 : BitVec 32) (k1_hw5 : k1_chk5 i v764 v766) (k1_t46 : Fin (k1_t46_loop v764 v766).trips) (k1_t48 : Fin (k1_t48_loop v764 v766 k1_t46).trips), ∀ a, (k1_off651 v764 v766 k1_t46 k1_t48) a + S1x16.size a ≤ S72x256.size a := fun i v764 v766 k1_hw5 k1_t46 k1_t48 => k1_hw5.2.2.2.1.2.2.2.2.2.2.2.2.2.2.2.2.2.1 k1_t46 k1_t48
theorem k1_off652_inb : ∀ (i : grid1.Coords) (v764 : BitVec 32) (v766 : BitVec 32) (k1_hw5 : k1_chk5 i v764 v766) (k1_t46 : Fin (k1_t46_loop v764 v766).trips) (k1_t48 : Fin (k1_t48_loop v764 v766 k1_t46).trips), ∀ a, (k1_off652 v764 v766 k1_t46 k1_t48) a + S1x16.size a ≤ S72x256.size a := fun i v764 v766 k1_hw5 k1_t46 k1_t48 => k1_hw5.2.2.2.1.2.2.2.2.2.2.2.2.2.2.2.2.2.2.1 k1_t46 k1_t48
theorem k1_off653_inb : ∀ (i : grid1.Coords) (v764 : BitVec 32) (v766 : BitVec 32) (k1_hw5 : k1_chk5 i v764 v766) (k1_t46 : Fin (k1_t46_loop v764 v766).trips), ∀ (k1_h44 : k1_cond44 v764 v766 k1_t46 = 1#1), ∀ a, (k1_off653 i v764 v766 k1_t46) a + S72x256.size a ≤ S100000x512.size a := fun i v764 v766 k1_hw5 k1_t46 k1_h44 => k1_hw5.2.2.2.1.2.2.2.2.2.2.2.2.2.2.2.2.2.2.2.1 k1_t46 k1_h44
theorem k1_off654_inb : ∀ (i : grid1.Coords) (v764 : BitVec 32) (v766 : BitVec 32) (k1_hw5 : k1_chk5 i v764 v766) (k1_t46 : Fin (k1_t46_loop v764 v766).trips), ∀ (k1_h44 : k1_cond44 v764 v766 k1_t46 = 1#1), ∀ (k1_h45 : k1_cond45 v764 v766 k1_t46 = 1#1), ∀ a, (k1_off654 i v764 v766 k1_t46) a + S72x256.size a ≤ S100000x512.size a := fun i v764 v766 k1_hw5 k1_t46 k1_h44 k1_h45 => k1_hw5.2.2.2.1.2.2.2.2.2.2.2.2.2.2.2.2.2.2.2.2.1 k1_t46 k1_h44 k1_h45
theorem k1_t49_ok : ∀ (i : grid1.Coords) (v764 : BitVec 32) (v766 : BitVec 32) (k1_hw5 : k1_chk5 i v764 v766) (k1_t46 : Fin (k1_t46_loop v764 v766).trips), (k1_t49_loop v764 v766 k1_t46).OK := fun i v764 v766 k1_hw5 k1_t46 => k1_hw5.2.2.2.1.2.2.2.2.2.2.2.2.2.2.2.2.2.2.2.2.2.1 k1_t46
theorem k1_off655_inb : ∀ (i : grid1.Coords) (v764 : BitVec 32) (v766 : BitVec 32) (k1_hw5 : k1_chk5 i v764 v766) (k1_t46 : Fin (k1_t46_loop v764 v766).trips) (k1_t49 : Fin (k1_t49_loop v764 v766 k1_t46).trips), ∀ a, (k1_off655 v764 v766 k1_t46 k1_t49) a + S1x16.size a ≤ S72x256.size a := fun i v764 v766 k1_hw5 k1_t46 k1_t49 => k1_hw5.2.2.2.1.2.2.2.2.2.2.2.2.2.2.2.2.2.2.2.2.2.2.1 k1_t46 k1_t49
theorem k1_off656_inb : ∀ (i : grid1.Coords) (v764 : BitVec 32) (v766 : BitVec 32) (k1_hw5 : k1_chk5 i v764 v766) (k1_t46 : Fin (k1_t46_loop v764 v766).trips) (k1_t49 : Fin (k1_t49_loop v764 v766 k1_t46).trips), ∀ a, (k1_off656 v764 v766 k1_t46 k1_t49) a + S1x16.size a ≤ S72x256.size a := fun i v764 v766 k1_hw5 k1_t46 k1_t49 => k1_hw5.2.2.2.1.2.2.2.2.2.2.2.2.2.2.2.2.2.2.2.2.2.2.2.1 k1_t46 k1_t49
theorem k1_off657_inb : ∀ (i : grid1.Coords) (v764 : BitVec 32) (v766 : BitVec 32) (k1_hw5 : k1_chk5 i v764 v766) (k1_t46 : Fin (k1_t46_loop v764 v766).trips) (k1_t49 : Fin (k1_t49_loop v764 v766 k1_t46).trips), ∀ a, (k1_off657 v764 v766 k1_t46 k1_t49) a + S1x16.size a ≤ S72x256.size a := fun i v764 v766 k1_hw5 k1_t46 k1_t49 => k1_hw5.2.2.2.1.2.2.2.2.2.2.2.2.2.2.2.2.2.2.2.2.2.2.2.2.1 k1_t46 k1_t49
theorem k1_off658_inb : ∀ (i : grid1.Coords) (v764 : BitVec 32) (v766 : BitVec 32) (k1_hw5 : k1_chk5 i v764 v766) (k1_t46 : Fin (k1_t46_loop v764 v766).trips) (k1_t49 : Fin (k1_t49_loop v764 v766 k1_t46).trips), ∀ a, (k1_off658 v764 v766 k1_t46 k1_t49) a + S1x16.size a ≤ S72x256.size a := fun i v764 v766 k1_hw5 k1_t46 k1_t49 => k1_hw5.2.2.2.1.2.2.2.2.2.2.2.2.2.2.2.2.2.2.2.2.2.2.2.2.2.1 k1_t46 k1_t49
theorem k1_off659_inb : ∀ (i : grid1.Coords) (v764 : BitVec 32) (v766 : BitVec 32) (k1_hw5 : k1_chk5 i v764 v766) (k1_t46 : Fin (k1_t46_loop v764 v766).trips) (k1_t49 : Fin (k1_t49_loop v764 v766 k1_t46).trips), ∀ a, (k1_off659 v764 v766 k1_t46 k1_t49) a + S1x16.size a ≤ S72x256.size a := fun i v764 v766 k1_hw5 k1_t46 k1_t49 => k1_hw5.2.2.2.1.2.2.2.2.2.2.2.2.2.2.2.2.2.2.2.2.2.2.2.2.2.2.1 k1_t46 k1_t49
theorem k1_off660_inb : ∀ (i : grid1.Coords) (v764 : BitVec 32) (v766 : BitVec 32) (k1_hw5 : k1_chk5 i v764 v766) (k1_t46 : Fin (k1_t46_loop v764 v766).trips) (k1_t49 : Fin (k1_t49_loop v764 v766 k1_t46).trips), ∀ a, (k1_off660 v764 v766 k1_t46 k1_t49) a + S1x16.size a ≤ S72x256.size a := fun i v764 v766 k1_hw5 k1_t46 k1_t49 => k1_hw5.2.2.2.1.2.2.2.2.2.2.2.2.2.2.2.2.2.2.2.2.2.2.2.2.2.2.2.1 k1_t46 k1_t49
theorem k1_off661_inb : ∀ (i : grid1.Coords) (v764 : BitVec 32) (v766 : BitVec 32) (k1_hw5 : k1_chk5 i v764 v766) (k1_t46 : Fin (k1_t46_loop v764 v766).trips) (k1_t49 : Fin (k1_t49_loop v764 v766 k1_t46).trips), ∀ a, (k1_off661 v764 v766 k1_t46 k1_t49) a + S1x16.size a ≤ S72x256.size a := fun i v764 v766 k1_hw5 k1_t46 k1_t49 => k1_hw5.2.2.2.1.2.2.2.2.2.2.2.2.2.2.2.2.2.2.2.2.2.2.2.2.2.2.2.2.1 k1_t46 k1_t49
theorem k1_off662_inb : ∀ (i : grid1.Coords) (v764 : BitVec 32) (v766 : BitVec 32) (k1_hw5 : k1_chk5 i v764 v766) (k1_t46 : Fin (k1_t46_loop v764 v766).trips) (k1_t49 : Fin (k1_t49_loop v764 v766 k1_t46).trips), ∀ a, (k1_off662 v764 v766 k1_t46 k1_t49) a + S1x16.size a ≤ S72x256.size a := fun i v764 v766 k1_hw5 k1_t46 k1_t49 => k1_hw5.2.2.2.1.2.2.2.2.2.2.2.2.2.2.2.2.2.2.2.2.2.2.2.2.2.2.2.2.2.1 k1_t46 k1_t49
theorem k1_off663_inb : ∀ (i : grid1.Coords) (v764 : BitVec 32) (v766 : BitVec 32) (k1_hw5 : k1_chk5 i v764 v766) (k1_t46 : Fin (k1_t46_loop v764 v766).trips) (k1_t49 : Fin (k1_t49_loop v764 v766 k1_t46).trips), ∀ a, (k1_off663 v764 v766 k1_t46 k1_t49) a + S1x16.size a ≤ S72x256.size a := fun i v764 v766 k1_hw5 k1_t46 k1_t49 => k1_hw5.2.2.2.1.2.2.2.2.2.2.2.2.2.2.2.2.2.2.2.2.2.2.2.2.2.2.2.2.2.2.1 k1_t46 k1_t49
theorem k1_off664_inb : ∀ (i : grid1.Coords) (v764 : BitVec 32) (v766 : BitVec 32) (k1_hw5 : k1_chk5 i v764 v766) (k1_t46 : Fin (k1_t46_loop v764 v766).trips) (k1_t49 : Fin (k1_t49_loop v764 v766 k1_t46).trips), ∀ a, (k1_off664 v764 v766 k1_t46 k1_t49) a + S1x16.size a ≤ S72x256.size a := fun i v764 v766 k1_hw5 k1_t46 k1_t49 => k1_hw5.2.2.2.1.2.2.2.2.2.2.2.2.2.2.2.2.2.2.2.2.2.2.2.2.2.2.2.2.2.2.2.1 k1_t46 k1_t49
theorem k1_off665_inb : ∀ (i : grid1.Coords) (v764 : BitVec 32) (v766 : BitVec 32) (k1_hw5 : k1_chk5 i v764 v766) (k1_t46 : Fin (k1_t46_loop v764 v766).trips) (k1_t49 : Fin (k1_t49_loop v764 v766 k1_t46).trips), ∀ a, (k1_off665 v764 v766 k1_t46 k1_t49) a + S1x16.size a ≤ S72x256.size a := fun i v764 v766 k1_hw5 k1_t46 k1_t49 => k1_hw5.2.2.2.1.2.2.2.2.2.2.2.2.2.2.2.2.2.2.2.2.2.2.2.2.2.2.2.2.2.2.2.2.1 k1_t46 k1_t49
theorem k1_off666_inb : ∀ (i : grid1.Coords) (v764 : BitVec 32) (v766 : BitVec 32) (k1_hw5 : k1_chk5 i v764 v766) (k1_t46 : Fin (k1_t46_loop v764 v766).trips) (k1_t49 : Fin (k1_t49_loop v764 v766 k1_t46).trips), ∀ a, (k1_off666 v764 v766 k1_t46 k1_t49) a + S1x16.size a ≤ S72x256.size a := fun i v764 v766 k1_hw5 k1_t46 k1_t49 => k1_hw5.2.2.2.1.2.2.2.2.2.2.2.2.2.2.2.2.2.2.2.2.2.2.2.2.2.2.2.2.2.2.2.2.2.1 k1_t46 k1_t49
theorem k1_off667_inb : ∀ (i : grid1.Coords) (v764 : BitVec 32) (v766 : BitVec 32) (k1_hw5 : k1_chk5 i v764 v766) (k1_t46 : Fin (k1_t46_loop v764 v766).trips) (k1_t49 : Fin (k1_t49_loop v764 v766 k1_t46).trips), ∀ a, (k1_off667 v764 v766 k1_t46 k1_t49) a + S1x16.size a ≤ S72x256.size a := fun i v764 v766 k1_hw5 k1_t46 k1_t49 => k1_hw5.2.2.2.1.2.2.2.2.2.2.2.2.2.2.2.2.2.2.2.2.2.2.2.2.2.2.2.2.2.2.2.2.2.2.1 k1_t46 k1_t49
theorem k1_off668_inb : ∀ (i : grid1.Coords) (v764 : BitVec 32) (v766 : BitVec 32) (k1_hw5 : k1_chk5 i v764 v766) (k1_t46 : Fin (k1_t46_loop v764 v766).trips) (k1_t49 : Fin (k1_t49_loop v764 v766 k1_t46).trips), ∀ a, (k1_off668 v764 v766 k1_t46 k1_t49) a + S1x16.size a ≤ S72x256.size a := fun i v764 v766 k1_hw5 k1_t46 k1_t49 => k1_hw5.2.2.2.1.2.2.2.2.2.2.2.2.2.2.2.2.2.2.2.2.2.2.2.2.2.2.2.2.2.2.2.2.2.2.2 k1_t46 k1_t49
theorem k1_off669_inb : ∀ (i : grid1.Coords) (v764 : BitVec 32) (v766 : BitVec 32) (k1_hw5 : k1_chk5 i v764 v766) (k1_t46 : Fin (k1_t46_loop v764 v766).trips) (k1_t49 : Fin (k1_t49_loop v764 v766 k1_t46).trips), ∀ a, (k1_off669 v764 v766 k1_t46 k1_t49) a + S1x16.size a ≤ S72x256.size a := fun i v764 v766 k1_hw5 k1_t46 k1_t49 => k1_hw5.2.2.2.2.1 k1_t46 k1_t49
theorem k1_off670_inb : ∀ (i : grid1.Coords) (v764 : BitVec 32) (v766 : BitVec 32) (k1_hw5 : k1_chk5 i v764 v766) (k1_t46 : Fin (k1_t46_loop v764 v766).trips) (k1_t49 : Fin (k1_t49_loop v764 v766 k1_t46).trips), ∀ a, (k1_off670 v764 v766 k1_t46 k1_t49) a + S1x16.size a ≤ S72x256.size a := fun i v764 v766 k1_hw5 k1_t46 k1_t49 => k1_hw5.2.2.2.2.2.1 k1_t46 k1_t49
theorem k1_t50_ok : ∀ (i : grid1.Coords) (v764 : BitVec 32) (v766 : BitVec 32) (k1_hw5 : k1_chk5 i v764 v766) (k1_t46 : Fin (k1_t46_loop v764 v766).trips), (k1_t50_loop v764 v766 k1_t46).OK := fun i v764 v766 k1_hw5 k1_t46 => k1_hw5.2.2.2.2.2.2.1 k1_t46
theorem k1_off671_inb : ∀ (i : grid1.Coords) (v764 : BitVec 32) (v766 : BitVec 32) (k1_hw5 : k1_chk5 i v764 v766) (k1_t46 : Fin (k1_t46_loop v764 v766).trips) (k1_t50 : Fin (k1_t50_loop v764 v766 k1_t46).trips), ∀ a, (k1_off671 v764 v766 k1_t46 k1_t50) a + S1x16.size a ≤ S72x256.size a := fun i v764 v766 k1_hw5 k1_t46 k1_t50 => k1_hw5.2.2.2.2.2.2.2.1 k1_t46 k1_t50
theorem k1_off672_inb : ∀ (i : grid1.Coords) (v764 : BitVec 32) (v766 : BitVec 32) (k1_hw5 : k1_chk5 i v764 v766) (k1_t46 : Fin (k1_t46_loop v764 v766).trips) (k1_t50 : Fin (k1_t50_loop v764 v766 k1_t46).trips), ∀ a, (k1_off672 v764 v766 k1_t46 k1_t50) a + S1x16.size a ≤ S72x256.size a := fun i v764 v766 k1_hw5 k1_t46 k1_t50 => k1_hw5.2.2.2.2.2.2.2.2.1 k1_t46 k1_t50
theorem k1_off673_inb : ∀ (i : grid1.Coords) (v764 : BitVec 32) (v766 : BitVec 32) (k1_hw5 : k1_chk5 i v764 v766) (k1_t46 : Fin (k1_t46_loop v764 v766).trips) (k1_t50 : Fin (k1_t50_loop v764 v766 k1_t46).trips), ∀ a, (k1_off673 v764 v766 k1_t46 k1_t50) a + S1x16.size a ≤ S72x256.size a := fun i v764 v766 k1_hw5 k1_t46 k1_t50 => k1_hw5.2.2.2.2.2.2.2.2.2.1 k1_t46 k1_t50
theorem k1_off674_inb : ∀ (i : grid1.Coords) (v764 : BitVec 32) (v766 : BitVec 32) (k1_hw5 : k1_chk5 i v764 v766) (k1_t46 : Fin (k1_t46_loop v764 v766).trips) (k1_t50 : Fin (k1_t50_loop v764 v766 k1_t46).trips), ∀ a, (k1_off674 v764 v766 k1_t46 k1_t50) a + S1x16.size a ≤ S72x256.size a := fun i v764 v766 k1_hw5 k1_t46 k1_t50 => k1_hw5.2.2.2.2.2.2.2.2.2.2.1 k1_t46 k1_t50
theorem k1_off675_inb : ∀ (i : grid1.Coords) (v764 : BitVec 32) (v766 : BitVec 32) (k1_hw5 : k1_chk5 i v764 v766) (k1_t46 : Fin (k1_t46_loop v764 v766).trips) (k1_t50 : Fin (k1_t50_loop v764 v766 k1_t46).trips), ∀ a, (k1_off675 v764 v766 k1_t46 k1_t50) a + S1x16.size a ≤ S72x256.size a := fun i v764 v766 k1_hw5 k1_t46 k1_t50 => k1_hw5.2.2.2.2.2.2.2.2.2.2.2.1 k1_t46 k1_t50
theorem k1_off676_inb : ∀ (i : grid1.Coords) (v764 : BitVec 32) (v766 : BitVec 32) (k1_hw5 : k1_chk5 i v764 v766) (k1_t46 : Fin (k1_t46_loop v764 v766).trips) (k1_t50 : Fin (k1_t50_loop v764 v766 k1_t46).trips), ∀ a, (k1_off676 v764 v766 k1_t46 k1_t50) a + S1x16.size a ≤ S72x256.size a := fun i v764 v766 k1_hw5 k1_t46 k1_t50 => k1_hw5.2.2.2.2.2.2.2.2.2.2.2.2.1 k1_t46 k1_t50
theorem k1_off677_inb : ∀ (i : grid1.Coords) (v764 : BitVec 32) (v766 : BitVec 32) (k1_hw5 : k1_chk5 i v764 v766) (k1_t46 : Fin (k1_t46_loop v764 v766).trips) (k1_t50 : Fin (k1_t50_loop v764 v766 k1_t46).trips), ∀ a, (k1_off677 v764 v766 k1_t46 k1_t50) a + S1x16.size a ≤ S72x256.size a := fun i v764 v766 k1_hw5 k1_t46 k1_t50 => k1_hw5.2.2.2.2.2.2.2.2.2.2.2.2.2.1 k1_t46 k1_t50
theorem k1_off678_inb : ∀ (i : grid1.Coords) (v764 : BitVec 32) (v766 : BitVec 32) (k1_hw5 : k1_chk5 i v764 v766) (k1_t46 : Fin (k1_t46_loop v764 v766).trips) (k1_t50 : Fin (k1_t50_loop v764 v766 k1_t46).trips), ∀ a, (k1_off678 v764 v766 k1_t46 k1_t50) a + S1x16.size a ≤ S72x256.size a := fun i v764 v766 k1_hw5 k1_t46 k1_t50 => k1_hw5.2.2.2.2.2.2.2.2.2.2.2.2.2.2.1 k1_t46 k1_t50
theorem k1_off679_inb : ∀ (i : grid1.Coords) (v764 : BitVec 32) (v766 : BitVec 32) (k1_hw5 : k1_chk5 i v764 v766) (k1_t46 : Fin (k1_t46_loop v764 v766).trips) (k1_t50 : Fin (k1_t50_loop v764 v766 k1_t46).trips), ∀ a, (k1_off679 v764 v766 k1_t46 k1_t50) a + S1x16.size a ≤ S72x256.size a := fun i v764 v766 k1_hw5 k1_t46 k1_t50 => k1_hw5.2.2.2.2.2.2.2.2.2.2.2.2.2.2.2.1 k1_t46 k1_t50
theorem k1_off680_inb : ∀ (i : grid1.Coords) (v764 : BitVec 32) (v766 : BitVec 32) (k1_hw5 : k1_chk5 i v764 v766) (k1_t46 : Fin (k1_t46_loop v764 v766).trips) (k1_t50 : Fin (k1_t50_loop v764 v766 k1_t46).trips), ∀ a, (k1_off680 v764 v766 k1_t46 k1_t50) a + S1x16.size a ≤ S72x256.size a := fun i v764 v766 k1_hw5 k1_t46 k1_t50 => k1_hw5.2.2.2.2.2.2.2.2.2.2.2.2.2.2.2.2.1 k1_t46 k1_t50
theorem k1_off681_inb : ∀ (i : grid1.Coords) (v764 : BitVec 32) (v766 : BitVec 32) (k1_hw5 : k1_chk5 i v764 v766) (k1_t46 : Fin (k1_t46_loop v764 v766).trips) (k1_t50 : Fin (k1_t50_loop v764 v766 k1_t46).trips), ∀ a, (k1_off681 v764 v766 k1_t46 k1_t50) a + S1x16.size a ≤ S72x256.size a := fun i v764 v766 k1_hw5 k1_t46 k1_t50 => k1_hw5.2.2.2.2.2.2.2.2.2.2.2.2.2.2.2.2.2.1 k1_t46 k1_t50
theorem k1_off682_inb : ∀ (i : grid1.Coords) (v764 : BitVec 32) (v766 : BitVec 32) (k1_hw5 : k1_chk5 i v764 v766) (k1_t46 : Fin (k1_t46_loop v764 v766).trips) (k1_t50 : Fin (k1_t50_loop v764 v766 k1_t46).trips), ∀ a, (k1_off682 v764 v766 k1_t46 k1_t50) a + S1x16.size a ≤ S72x256.size a := fun i v764 v766 k1_hw5 k1_t46 k1_t50 => k1_hw5.2.2.2.2.2.2.2.2.2.2.2.2.2.2.2.2.2.2.1 k1_t46 k1_t50
theorem k1_off683_inb : ∀ (i : grid1.Coords) (v764 : BitVec 32) (v766 : BitVec 32) (k1_hw5 : k1_chk5 i v764 v766) (k1_t46 : Fin (k1_t46_loop v764 v766).trips) (k1_t50 : Fin (k1_t50_loop v764 v766 k1_t46).trips), ∀ a, (k1_off683 v764 v766 k1_t46 k1_t50) a + S1x16.size a ≤ S72x256.size a := fun i v764 v766 k1_hw5 k1_t46 k1_t50 => k1_hw5.2.2.2.2.2.2.2.2.2.2.2.2.2.2.2.2.2.2.2.1 k1_t46 k1_t50
theorem k1_off684_inb : ∀ (i : grid1.Coords) (v764 : BitVec 32) (v766 : BitVec 32) (k1_hw5 : k1_chk5 i v764 v766) (k1_t46 : Fin (k1_t46_loop v764 v766).trips) (k1_t50 : Fin (k1_t50_loop v764 v766 k1_t46).trips), ∀ a, (k1_off684 v764 v766 k1_t46 k1_t50) a + S1x16.size a ≤ S72x256.size a := fun i v764 v766 k1_hw5 k1_t46 k1_t50 => k1_hw5.2.2.2.2.2.2.2.2.2.2.2.2.2.2.2.2.2.2.2.2.1 k1_t46 k1_t50
theorem k1_off685_inb : ∀ (i : grid1.Coords) (v764 : BitVec 32) (v766 : BitVec 32) (k1_hw5 : k1_chk5 i v764 v766) (k1_t46 : Fin (k1_t46_loop v764 v766).trips) (k1_t50 : Fin (k1_t50_loop v764 v766 k1_t46).trips), ∀ a, (k1_off685 v764 v766 k1_t46 k1_t50) a + S1x16.size a ≤ S72x256.size a := fun i v764 v766 k1_hw5 k1_t46 k1_t50 => k1_hw5.2.2.2.2.2.2.2.2.2.2.2.2.2.2.2.2.2.2.2.2.2.1 k1_t46 k1_t50
theorem k1_off686_inb : ∀ (i : grid1.Coords) (v764 : BitVec 32) (v766 : BitVec 32) (k1_hw5 : k1_chk5 i v764 v766) (k1_t46 : Fin (k1_t46_loop v764 v766).trips) (k1_t50 : Fin (k1_t50_loop v764 v766 k1_t46).trips), ∀ a, (k1_off686 v764 v766 k1_t46 k1_t50) a + S1x16.size a ≤ S72x256.size a := fun i v764 v766 k1_hw5 k1_t46 k1_t50 => k1_hw5.2.2.2.2.2.2.2.2.2.2.2.2.2.2.2.2.2.2.2.2.2.2 k1_t46 k1_t50

def k1_off687 (i : grid1.Coords) (v946 : BitVec 32) : Fin 2 → Nat :=
  let c0_i32_1408 : BitVec 32 := 0#32
  let v2949 : BitVec 32 := Scalar.addi v946 c0_i32_1408
  let c0_i32_1410 : BitVec 32 := 0#32
  let v2951 : BitVec 1 := Scalar.cmpi .sgt v2949 c0_i32_1410
  let v2952 : BitVec 32 := Scalar.extui v2951
  let c0_i32_1411 : BitVec 32 := 0#32
  let v2953 : BitVec 1 := Scalar.cmpi .slt v2949 c0_i32_1411
  let v2954 : BitVec 32 := Scalar.extui v2953
  let v2955 : BitVec 32 := Scalar.subi v2952 v2954
  let c8_i32_1409 : BitVec 32 := 8#32
  let c0_i32_1412 : BitVec 32 := 0#32
  let v2956 : BitVec 1 := Scalar.cmpi .sgt c8_i32_1409 c0_i32_1412
  let v2957 : BitVec 32 := Scalar.extui v2956
  let c0_i32_1413 : BitVec 32 := 0#32
  let v2958 : BitVec 1 := Scalar.cmpi .slt c8_i32_1409 c0_i32_1413
  let v2959 : BitVec 32 := Scalar.extui v2958
  let v2960 : BitVec 32 := Scalar.subi v2957 v2959
  let v2961 : BitVec 1 := Scalar.cmpi .ne v2955 v2960
  let v2962 : BitVec 32 := Scalar.remsi v2949 c8_i32_1409
  let c0_i32_1414 : BitVec 32 := 0#32
  let v2963 : BitVec 1 := Scalar.cmpi .ne v2962 c0_i32_1414
  let v2964 : BitVec 1 := Scalar.andi v2961 v2963
  let v2950 : BitVec 32 := Scalar.divsi v2949 c8_i32_1409
  let c1_i32_1415 : BitVec 32 := 1#32
  let v2965 : BitVec 32 := Scalar.subi v2950 c1_i32_1415
  let v2966 : BitVec 32 := Scalar.select v2964 v2965 v2950
  let c8_i32_1416 : BitVec 32 := 8#32
  let v2967 : BitVec 32 := Scalar.muli v2966 c8_i32_1416
  let c99928_i32 : BitVec 32 := 99928#32
  let v2968 : BitVec 32 := Scalar.minsi v2967 c99928_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v2968.toNat, v29.toNat]
def k1_cond46 (v946 : BitVec 32) (v948 : BitVec 32) : BitVec 1 :=
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c0_i32_449 : BitVec 32 := 0#32
  let v971 : BitVec 1 := Scalar.cmpi .sgt v970 c0_i32_449
  let v972 : BitVec 32 := Scalar.extui v971
  let c0_i32_450 : BitVec 32 := 0#32
  let v973 : BitVec 1 := Scalar.cmpi .ne v972 c0_i32_450
  v973

@[reducible] def k1_t51_loop (v946 : BitVec 32) (v948 : BitVec 32) : Scf.Loop 32 :=
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_461 : BitVec 32 := 1#32
  ⟨c0_i32_459, v996, c1_i32_461⟩
def k1_off688 (i : grid1.Coords) (v946 : BitVec 32) (v948 : BitVec 32) (k1_t51 : Fin (k1_t51_loop v946 v948).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1446 : BitVec 32 := 64#32
  let v3026 : BitVec 32 := Scalar.muli v2949 c64_i32_1446
  let v3027 : BitVec 32 := Scalar.addi v946 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond47 (v946 : BitVec 32) (v948 : BitVec 32) (k1_t51 : Fin (k1_t51_loop v946 v948).trips) : BitVec 1 :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let v2950 : BitVec 1 := Scalar.cmpi .slt v2949 v970
  let v2951 : BitVec 32 := Scalar.extui v2950
  let c0_i32_1409 : BitVec 32 := 0#32
  let v2952 : BitVec 1 := Scalar.cmpi .ne v2951 c0_i32_1409
  v2952

def k1_off689 (i : grid1.Coords) (v946 : BitVec 32) (v948 : BitVec 32) (k1_t51 : Fin (k1_t51_loop v946 v948).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v946 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond48 (v946 : BitVec 32) (v948 : BitVec 32) (k1_t51 : Fin (k1_t51_loop v946 v948).trips) : BitVec 1 :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c1_i32_1456 : BitVec 32 := 1#32
  let v3049 : BitVec 32 := Scalar.addi v2949 c1_i32_1456
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let v3050 : BitVec 1 := Scalar.cmpi .slt v3049 v970
  let v3051 : BitVec 32 := Scalar.extui v3050
  let c0_i32_1457 : BitVec 32 := 0#32
  let v3052 : BitVec 1 := Scalar.cmpi .ne v3051 c0_i32_1457
  v3052

@[reducible] def k1_t52_loop (v946 : BitVec 32) (v948 : BitVec 32) (k1_t51 : Fin (k1_t51_loop v946 v948).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off690 (v946 : BitVec 32) (v948 : BitVec 32) (k1_t51 : Fin (k1_t51_loop v946 v948).trips) (k1_t52 : Fin (k1_t52_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t52
  let v3026 : BitVec 32 := Scalar.addi v2976 arg46
  let v3027 : Index := Scalar.indexCast v3026
  let c0_1446 : Index := 0#32
  ![v3027.toNat, 0]
def k1_off691 (v946 : BitVec 32) (v948 : BitVec 32) (k1_t51 : Fin (k1_t51_loop v946 v948).trips) (k1_t52 : Fin (k1_t52_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t52
  let v3026 : BitVec 32 := Scalar.addi v2976 arg46
  let v3032 : Index := Scalar.indexCast v3026
  let c16_1447 : Index := 16#32
  ![v3032.toNat, 16]
def k1_off692 (v946 : BitVec 32) (v948 : BitVec 32) (k1_t51 : Fin (k1_t51_loop v946 v948).trips) (k1_t52 : Fin (k1_t52_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t52
  let v3026 : BitVec 32 := Scalar.addi v2976 arg46
  let v3037 : Index := Scalar.indexCast v3026
  let c32_1448 : Index := 32#32
  ![v3037.toNat, 32]
def k1_off693 (v946 : BitVec 32) (v948 : BitVec 32) (k1_t51 : Fin (k1_t51_loop v946 v948).trips) (k1_t52 : Fin (k1_t52_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t52
  let v3026 : BitVec 32 := Scalar.addi v2976 arg46
  let v3042 : Index := Scalar.indexCast v3026
  let c48_1449 : Index := 48#32
  ![v3042.toNat, 48]
def k1_off694 (v946 : BitVec 32) (v948 : BitVec 32) (k1_t51 : Fin (k1_t51_loop v946 v948).trips) (k1_t52 : Fin (k1_t52_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t52
  let v3026 : BitVec 32 := Scalar.addi v2976 arg46
  let v3047 : Index := Scalar.indexCast v3026
  let c64_1450 : Index := 64#32
  ![v3047.toNat, 64]
def k1_off695 (v946 : BitVec 32) (v948 : BitVec 32) (k1_t51 : Fin (k1_t51_loop v946 v948).trips) (k1_t52 : Fin (k1_t52_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t52
  let v3026 : BitVec 32 := Scalar.addi v2976 arg46
  let v3052 : Index := Scalar.indexCast v3026
  let c80_1451 : Index := 80#32
  ![v3052.toNat, 80]
def k1_off696 (v946 : BitVec 32) (v948 : BitVec 32) (k1_t51 : Fin (k1_t51_loop v946 v948).trips) (k1_t52 : Fin (k1_t52_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t52
  let v3026 : BitVec 32 := Scalar.addi v2976 arg46
  let v3057 : Index := Scalar.indexCast v3026
  let c96_1452 : Index := 96#32
  ![v3057.toNat, 96]
def k1_off697 (v946 : BitVec 32) (v948 : BitVec 32) (k1_t51 : Fin (k1_t51_loop v946 v948).trips) (k1_t52 : Fin (k1_t52_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t52
  let v3026 : BitVec 32 := Scalar.addi v2976 arg46
  let v3062 : Index := Scalar.indexCast v3026
  let c112_1453 : Index := 112#32
  ![v3062.toNat, 112]
def k1_off698 (v946 : BitVec 32) (v948 : BitVec 32) (k1_t51 : Fin (k1_t51_loop v946 v948).trips) (k1_t52 : Fin (k1_t52_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t52
  let v3026 : BitVec 32 := Scalar.addi v2976 arg46
  let v3067 : Index := Scalar.indexCast v3026
  let c128_1454 : Index := 128#32
  ![v3067.toNat, 128]
def k1_off699 (v946 : BitVec 32) (v948 : BitVec 32) (k1_t51 : Fin (k1_t51_loop v946 v948).trips) (k1_t52 : Fin (k1_t52_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t52
  let v3026 : BitVec 32 := Scalar.addi v2976 arg46
  let v3072 : Index := Scalar.indexCast v3026
  let c144_1455 : Index := 144#32
  ![v3072.toNat, 144]
def k1_off700 (v946 : BitVec 32) (v948 : BitVec 32) (k1_t51 : Fin (k1_t51_loop v946 v948).trips) (k1_t52 : Fin (k1_t52_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t52
  let v3026 : BitVec 32 := Scalar.addi v2976 arg46
  let v3077 : Index := Scalar.indexCast v3026
  let c160_1456 : Index := 160#32
  ![v3077.toNat, 160]
def k1_off701 (v946 : BitVec 32) (v948 : BitVec 32) (k1_t51 : Fin (k1_t51_loop v946 v948).trips) (k1_t52 : Fin (k1_t52_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t52
  let v3026 : BitVec 32 := Scalar.addi v2976 arg46
  let v3082 : Index := Scalar.indexCast v3026
  let c176_1457 : Index := 176#32
  ![v3082.toNat, 176]
def k1_off702 (v946 : BitVec 32) (v948 : BitVec 32) (k1_t51 : Fin (k1_t51_loop v946 v948).trips) (k1_t52 : Fin (k1_t52_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t52
  let v3026 : BitVec 32 := Scalar.addi v2976 arg46
  let v3087 : Index := Scalar.indexCast v3026
  let c192_1458 : Index := 192#32
  ![v3087.toNat, 192]
def k1_off703 (v946 : BitVec 32) (v948 : BitVec 32) (k1_t51 : Fin (k1_t51_loop v946 v948).trips) (k1_t52 : Fin (k1_t52_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t52
  let v3026 : BitVec 32 := Scalar.addi v2976 arg46
  let v3092 : Index := Scalar.indexCast v3026
  let c208_1459 : Index := 208#32
  ![v3092.toNat, 208]
def k1_off704 (v946 : BitVec 32) (v948 : BitVec 32) (k1_t51 : Fin (k1_t51_loop v946 v948).trips) (k1_t52 : Fin (k1_t52_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t52
  let v3026 : BitVec 32 := Scalar.addi v2976 arg46
  let v3097 : Index := Scalar.indexCast v3026
  let c224_1460 : Index := 224#32
  ![v3097.toNat, 224]
def k1_off705 (v946 : BitVec 32) (v948 : BitVec 32) (k1_t51 : Fin (k1_t51_loop v946 v948).trips) (k1_t52 : Fin (k1_t52_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t52
  let v3026 : BitVec 32 := Scalar.addi v2976 arg46
  let v3102 : Index := Scalar.indexCast v3026
  let c240_1461 : Index := 240#32
  ![v3102.toNat, 240]
@[reducible] def k1_t53_loop (v946 : BitVec 32) (v948 : BitVec 32) (k1_t51 : Fin (k1_t51_loop v946 v948).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off706 (v946 : BitVec 32) (v948 : BitVec 32) (k1_t51 : Fin (k1_t51_loop v946 v948).trips) (k1_t53 : Fin (k1_t53_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t53
  let v3026 : BitVec 32 := Scalar.addi v2976 arg46
  let v3027 : Index := Scalar.indexCast v3026
  let c0_1446 : Index := 0#32
  ![v3027.toNat, 0]
def k1_off707 (v946 : BitVec 32) (v948 : BitVec 32) (k1_t51 : Fin (k1_t51_loop v946 v948).trips) (k1_t53 : Fin (k1_t53_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t53
  let v3026 : BitVec 32 := Scalar.addi v2976 arg46
  let v3032 : Index := Scalar.indexCast v3026
  let c16_1447 : Index := 16#32
  ![v3032.toNat, 16]
def k1_off708 (v946 : BitVec 32) (v948 : BitVec 32) (k1_t51 : Fin (k1_t51_loop v946 v948).trips) (k1_t53 : Fin (k1_t53_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t53
  let v3026 : BitVec 32 := Scalar.addi v2976 arg46
  let v3037 : Index := Scalar.indexCast v3026
  let c32_1448 : Index := 32#32
  ![v3037.toNat, 32]
def k1_off709 (v946 : BitVec 32) (v948 : BitVec 32) (k1_t51 : Fin (k1_t51_loop v946 v948).trips) (k1_t53 : Fin (k1_t53_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t53
  let v3026 : BitVec 32 := Scalar.addi v2976 arg46
  let v3042 : Index := Scalar.indexCast v3026
  let c48_1449 : Index := 48#32
  ![v3042.toNat, 48]
def k1_off710 (v946 : BitVec 32) (v948 : BitVec 32) (k1_t51 : Fin (k1_t51_loop v946 v948).trips) (k1_t53 : Fin (k1_t53_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t53
  let v3026 : BitVec 32 := Scalar.addi v2976 arg46
  let v3047 : Index := Scalar.indexCast v3026
  let c64_1450 : Index := 64#32
  ![v3047.toNat, 64]
def k1_off711 (v946 : BitVec 32) (v948 : BitVec 32) (k1_t51 : Fin (k1_t51_loop v946 v948).trips) (k1_t53 : Fin (k1_t53_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t53
  let v3026 : BitVec 32 := Scalar.addi v2976 arg46
  let v3052 : Index := Scalar.indexCast v3026
  let c80_1451 : Index := 80#32
  ![v3052.toNat, 80]
def k1_off712 (v946 : BitVec 32) (v948 : BitVec 32) (k1_t51 : Fin (k1_t51_loop v946 v948).trips) (k1_t53 : Fin (k1_t53_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t53
  let v3026 : BitVec 32 := Scalar.addi v2976 arg46
  let v3057 : Index := Scalar.indexCast v3026
  let c96_1452 : Index := 96#32
  ![v3057.toNat, 96]
def k1_off713 (v946 : BitVec 32) (v948 : BitVec 32) (k1_t51 : Fin (k1_t51_loop v946 v948).trips) (k1_t53 : Fin (k1_t53_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t53
  let v3026 : BitVec 32 := Scalar.addi v2976 arg46
  let v3062 : Index := Scalar.indexCast v3026
  let c112_1453 : Index := 112#32
  ![v3062.toNat, 112]
def k1_off714 (v946 : BitVec 32) (v948 : BitVec 32) (k1_t51 : Fin (k1_t51_loop v946 v948).trips) (k1_t53 : Fin (k1_t53_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t53
  let v3026 : BitVec 32 := Scalar.addi v2976 arg46
  let v3067 : Index := Scalar.indexCast v3026
  let c128_1454 : Index := 128#32
  ![v3067.toNat, 128]
def k1_off715 (v946 : BitVec 32) (v948 : BitVec 32) (k1_t51 : Fin (k1_t51_loop v946 v948).trips) (k1_t53 : Fin (k1_t53_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t53
  let v3026 : BitVec 32 := Scalar.addi v2976 arg46
  let v3072 : Index := Scalar.indexCast v3026
  let c144_1455 : Index := 144#32
  ![v3072.toNat, 144]
def k1_off716 (v946 : BitVec 32) (v948 : BitVec 32) (k1_t51 : Fin (k1_t51_loop v946 v948).trips) (k1_t53 : Fin (k1_t53_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t53
  let v3026 : BitVec 32 := Scalar.addi v2976 arg46
  let v3077 : Index := Scalar.indexCast v3026
  let c160_1456 : Index := 160#32
  ![v3077.toNat, 160]
def k1_off717 (v946 : BitVec 32) (v948 : BitVec 32) (k1_t51 : Fin (k1_t51_loop v946 v948).trips) (k1_t53 : Fin (k1_t53_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t53
  let v3026 : BitVec 32 := Scalar.addi v2976 arg46
  let v3082 : Index := Scalar.indexCast v3026
  let c176_1457 : Index := 176#32
  ![v3082.toNat, 176]
def k1_off718 (v946 : BitVec 32) (v948 : BitVec 32) (k1_t51 : Fin (k1_t51_loop v946 v948).trips) (k1_t53 : Fin (k1_t53_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t53
  let v3026 : BitVec 32 := Scalar.addi v2976 arg46
  let v3087 : Index := Scalar.indexCast v3026
  let c192_1458 : Index := 192#32
  ![v3087.toNat, 192]
def k1_off719 (v946 : BitVec 32) (v948 : BitVec 32) (k1_t51 : Fin (k1_t51_loop v946 v948).trips) (k1_t53 : Fin (k1_t53_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t53
  let v3026 : BitVec 32 := Scalar.addi v2976 arg46
  let v3092 : Index := Scalar.indexCast v3026
  let c208_1459 : Index := 208#32
  ![v3092.toNat, 208]
def k1_off720 (v946 : BitVec 32) (v948 : BitVec 32) (k1_t51 : Fin (k1_t51_loop v946 v948).trips) (k1_t53 : Fin (k1_t53_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t53
  let v3026 : BitVec 32 := Scalar.addi v2976 arg46
  let v3097 : Index := Scalar.indexCast v3026
  let c224_1460 : Index := 224#32
  ![v3097.toNat, 224]
def k1_off721 (v946 : BitVec 32) (v948 : BitVec 32) (k1_t51 : Fin (k1_t51_loop v946 v948).trips) (k1_t53 : Fin (k1_t53_loop v946 v948 k1_t51).trips) : Fin 2 → Nat :=
  let c2_i32_1408 : BitVec 32 := 2#32
  let c0_i32_459 : BitVec 32 := 0#32
  let c1_i32_461 : BitVec 32 := 1#32
  let arg13 : BitVec 32 := Scf.iv c0_i32_459 c1_i32_461 k1_t51
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t53
  let v3026 : BitVec 32 := Scalar.addi v2976 arg46
  let v3102 : Index := Scalar.indexCast v3026
  let c240_1461 : Index := 240#32
  ![v3102.toNat, 240]
def k1_off722 (i : grid1.Coords) (v946 : BitVec 32) (v948 : BitVec 32) (k1_t51 : Fin (k1_t51_loop v946 v948).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v946 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond49 (v946 : BitVec 32) (v948 : BitVec 32) (k1_t51 : Fin (k1_t51_loop v946 v948).trips) : BitVec 1 :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let v2989 : BitVec 1 := Scalar.cmpi .slt v2988 v970
  let v2990 : BitVec 32 := Scalar.extui v2989
  let c0_i32_1428 : BitVec 32 := 0#32
  let v2991 : BitVec 1 := Scalar.cmpi .ne v2990 c0_i32_1428
  v2991

def k1_off723 (i : grid1.Coords) (v946 : BitVec 32) (v948 : BitVec 32) (k1_t51 : Fin (k1_t51_loop v946 v948).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v946 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond50 (v946 : BitVec 32) (v948 : BitVec 32) (k1_t51 : Fin (k1_t51_loop v946 v948).trips) : BitVec 1 :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let v3050 : BitVec 1 := Scalar.cmpi .slt v3049 v970
  let v3051 : BitVec 32 := Scalar.extui v3050
  let c0_i32_1457 : BitVec 32 := 0#32
  let v3052 : BitVec 1 := Scalar.cmpi .ne v3051 c0_i32_1457
  v3052

@[reducible] def k1_t54_loop (v946 : BitVec 32) (v948 : BitVec 32) (k1_t51 : Fin (k1_t51_loop v946 v948).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off724 (v946 : BitVec 32) (v948 : BitVec 32) (k1_t51 : Fin (k1_t51_loop v946 v948).trips) (k1_t54 : Fin (k1_t54_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t54
  let v3026 : BitVec 32 := Scalar.addi v3015 arg46
  let v3027 : Index := Scalar.indexCast v3026
  let c0_1446 : Index := 0#32
  ![v3027.toNat, 0]
def k1_off725 (v946 : BitVec 32) (v948 : BitVec 32) (k1_t51 : Fin (k1_t51_loop v946 v948).trips) (k1_t54 : Fin (k1_t54_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t54
  let v3026 : BitVec 32 := Scalar.addi v3015 arg46
  let v3032 : Index := Scalar.indexCast v3026
  let c16_1447 : Index := 16#32
  ![v3032.toNat, 16]
def k1_off726 (v946 : BitVec 32) (v948 : BitVec 32) (k1_t51 : Fin (k1_t51_loop v946 v948).trips) (k1_t54 : Fin (k1_t54_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t54
  let v3026 : BitVec 32 := Scalar.addi v3015 arg46
  let v3037 : Index := Scalar.indexCast v3026
  let c32_1448 : Index := 32#32
  ![v3037.toNat, 32]
def k1_off727 (v946 : BitVec 32) (v948 : BitVec 32) (k1_t51 : Fin (k1_t51_loop v946 v948).trips) (k1_t54 : Fin (k1_t54_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t54
  let v3026 : BitVec 32 := Scalar.addi v3015 arg46
  let v3042 : Index := Scalar.indexCast v3026
  let c48_1449 : Index := 48#32
  ![v3042.toNat, 48]
def k1_off728 (v946 : BitVec 32) (v948 : BitVec 32) (k1_t51 : Fin (k1_t51_loop v946 v948).trips) (k1_t54 : Fin (k1_t54_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t54
  let v3026 : BitVec 32 := Scalar.addi v3015 arg46
  let v3047 : Index := Scalar.indexCast v3026
  let c64_1450 : Index := 64#32
  ![v3047.toNat, 64]
def k1_off729 (v946 : BitVec 32) (v948 : BitVec 32) (k1_t51 : Fin (k1_t51_loop v946 v948).trips) (k1_t54 : Fin (k1_t54_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t54
  let v3026 : BitVec 32 := Scalar.addi v3015 arg46
  let v3052 : Index := Scalar.indexCast v3026
  let c80_1451 : Index := 80#32
  ![v3052.toNat, 80]
def k1_off730 (v946 : BitVec 32) (v948 : BitVec 32) (k1_t51 : Fin (k1_t51_loop v946 v948).trips) (k1_t54 : Fin (k1_t54_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t54
  let v3026 : BitVec 32 := Scalar.addi v3015 arg46
  let v3057 : Index := Scalar.indexCast v3026
  let c96_1452 : Index := 96#32
  ![v3057.toNat, 96]
def k1_off731 (v946 : BitVec 32) (v948 : BitVec 32) (k1_t51 : Fin (k1_t51_loop v946 v948).trips) (k1_t54 : Fin (k1_t54_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t54
  let v3026 : BitVec 32 := Scalar.addi v3015 arg46
  let v3062 : Index := Scalar.indexCast v3026
  let c112_1453 : Index := 112#32
  ![v3062.toNat, 112]
def k1_off732 (v946 : BitVec 32) (v948 : BitVec 32) (k1_t51 : Fin (k1_t51_loop v946 v948).trips) (k1_t54 : Fin (k1_t54_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t54
  let v3026 : BitVec 32 := Scalar.addi v3015 arg46
  let v3067 : Index := Scalar.indexCast v3026
  let c128_1454 : Index := 128#32
  ![v3067.toNat, 128]
def k1_off733 (v946 : BitVec 32) (v948 : BitVec 32) (k1_t51 : Fin (k1_t51_loop v946 v948).trips) (k1_t54 : Fin (k1_t54_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t54
  let v3026 : BitVec 32 := Scalar.addi v3015 arg46
  let v3072 : Index := Scalar.indexCast v3026
  let c144_1455 : Index := 144#32
  ![v3072.toNat, 144]
def k1_off734 (v946 : BitVec 32) (v948 : BitVec 32) (k1_t51 : Fin (k1_t51_loop v946 v948).trips) (k1_t54 : Fin (k1_t54_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t54
  let v3026 : BitVec 32 := Scalar.addi v3015 arg46
  let v3077 : Index := Scalar.indexCast v3026
  let c160_1456 : Index := 160#32
  ![v3077.toNat, 160]
def k1_off735 (v946 : BitVec 32) (v948 : BitVec 32) (k1_t51 : Fin (k1_t51_loop v946 v948).trips) (k1_t54 : Fin (k1_t54_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t54
  let v3026 : BitVec 32 := Scalar.addi v3015 arg46
  let v3082 : Index := Scalar.indexCast v3026
  let c176_1457 : Index := 176#32
  ![v3082.toNat, 176]
def k1_off736 (v946 : BitVec 32) (v948 : BitVec 32) (k1_t51 : Fin (k1_t51_loop v946 v948).trips) (k1_t54 : Fin (k1_t54_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t54
  let v3026 : BitVec 32 := Scalar.addi v3015 arg46
  let v3087 : Index := Scalar.indexCast v3026
  let c192_1458 : Index := 192#32
  ![v3087.toNat, 192]
def k1_off737 (v946 : BitVec 32) (v948 : BitVec 32) (k1_t51 : Fin (k1_t51_loop v946 v948).trips) (k1_t54 : Fin (k1_t54_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t54
  let v3026 : BitVec 32 := Scalar.addi v3015 arg46
  let v3092 : Index := Scalar.indexCast v3026
  let c208_1459 : Index := 208#32
  ![v3092.toNat, 208]
def k1_off738 (v946 : BitVec 32) (v948 : BitVec 32) (k1_t51 : Fin (k1_t51_loop v946 v948).trips) (k1_t54 : Fin (k1_t54_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t54
  let v3026 : BitVec 32 := Scalar.addi v3015 arg46
  let v3097 : Index := Scalar.indexCast v3026
  let c224_1460 : Index := 224#32
  ![v3097.toNat, 224]
def k1_off739 (v946 : BitVec 32) (v948 : BitVec 32) (k1_t51 : Fin (k1_t51_loop v946 v948).trips) (k1_t54 : Fin (k1_t54_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t54
  let v3026 : BitVec 32 := Scalar.addi v3015 arg46
  let v3102 : Index := Scalar.indexCast v3026
  let c240_1461 : Index := 240#32
  ![v3102.toNat, 240]
@[reducible] def k1_t55_loop (v946 : BitVec 32) (v948 : BitVec 32) (k1_t51 : Fin (k1_t51_loop v946 v948).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off740 (v946 : BitVec 32) (v948 : BitVec 32) (k1_t51 : Fin (k1_t51_loop v946 v948).trips) (k1_t55 : Fin (k1_t55_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t55
  let v3026 : BitVec 32 := Scalar.addi v3015 arg46
  let v3027 : Index := Scalar.indexCast v3026
  let c0_1446 : Index := 0#32
  ![v3027.toNat, 0]
def k1_off741 (v946 : BitVec 32) (v948 : BitVec 32) (k1_t51 : Fin (k1_t51_loop v946 v948).trips) (k1_t55 : Fin (k1_t55_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t55
  let v3026 : BitVec 32 := Scalar.addi v3015 arg46
  let v3032 : Index := Scalar.indexCast v3026
  let c16_1447 : Index := 16#32
  ![v3032.toNat, 16]
def k1_off742 (v946 : BitVec 32) (v948 : BitVec 32) (k1_t51 : Fin (k1_t51_loop v946 v948).trips) (k1_t55 : Fin (k1_t55_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t55
  let v3026 : BitVec 32 := Scalar.addi v3015 arg46
  let v3037 : Index := Scalar.indexCast v3026
  let c32_1448 : Index := 32#32
  ![v3037.toNat, 32]
def k1_off743 (v946 : BitVec 32) (v948 : BitVec 32) (k1_t51 : Fin (k1_t51_loop v946 v948).trips) (k1_t55 : Fin (k1_t55_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t55
  let v3026 : BitVec 32 := Scalar.addi v3015 arg46
  let v3042 : Index := Scalar.indexCast v3026
  let c48_1449 : Index := 48#32
  ![v3042.toNat, 48]
def k1_off744 (v946 : BitVec 32) (v948 : BitVec 32) (k1_t51 : Fin (k1_t51_loop v946 v948).trips) (k1_t55 : Fin (k1_t55_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t55
  let v3026 : BitVec 32 := Scalar.addi v3015 arg46
  let v3047 : Index := Scalar.indexCast v3026
  let c64_1450 : Index := 64#32
  ![v3047.toNat, 64]
def k1_off745 (v946 : BitVec 32) (v948 : BitVec 32) (k1_t51 : Fin (k1_t51_loop v946 v948).trips) (k1_t55 : Fin (k1_t55_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t55
  let v3026 : BitVec 32 := Scalar.addi v3015 arg46
  let v3052 : Index := Scalar.indexCast v3026
  let c80_1451 : Index := 80#32
  ![v3052.toNat, 80]
def k1_off746 (v946 : BitVec 32) (v948 : BitVec 32) (k1_t51 : Fin (k1_t51_loop v946 v948).trips) (k1_t55 : Fin (k1_t55_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t55
  let v3026 : BitVec 32 := Scalar.addi v3015 arg46
  let v3057 : Index := Scalar.indexCast v3026
  let c96_1452 : Index := 96#32
  ![v3057.toNat, 96]
def k1_off747 (v946 : BitVec 32) (v948 : BitVec 32) (k1_t51 : Fin (k1_t51_loop v946 v948).trips) (k1_t55 : Fin (k1_t55_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t55
  let v3026 : BitVec 32 := Scalar.addi v3015 arg46
  let v3062 : Index := Scalar.indexCast v3026
  let c112_1453 : Index := 112#32
  ![v3062.toNat, 112]
def k1_off748 (v946 : BitVec 32) (v948 : BitVec 32) (k1_t51 : Fin (k1_t51_loop v946 v948).trips) (k1_t55 : Fin (k1_t55_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t55
  let v3026 : BitVec 32 := Scalar.addi v3015 arg46
  let v3067 : Index := Scalar.indexCast v3026
  let c128_1454 : Index := 128#32
  ![v3067.toNat, 128]
def k1_off749 (v946 : BitVec 32) (v948 : BitVec 32) (k1_t51 : Fin (k1_t51_loop v946 v948).trips) (k1_t55 : Fin (k1_t55_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t55
  let v3026 : BitVec 32 := Scalar.addi v3015 arg46
  let v3072 : Index := Scalar.indexCast v3026
  let c144_1455 : Index := 144#32
  ![v3072.toNat, 144]
def k1_off750 (v946 : BitVec 32) (v948 : BitVec 32) (k1_t51 : Fin (k1_t51_loop v946 v948).trips) (k1_t55 : Fin (k1_t55_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t55
  let v3026 : BitVec 32 := Scalar.addi v3015 arg46
  let v3077 : Index := Scalar.indexCast v3026
  let c160_1456 : Index := 160#32
  ![v3077.toNat, 160]
def k1_off751 (v946 : BitVec 32) (v948 : BitVec 32) (k1_t51 : Fin (k1_t51_loop v946 v948).trips) (k1_t55 : Fin (k1_t55_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t55
  let v3026 : BitVec 32 := Scalar.addi v3015 arg46
  let v3082 : Index := Scalar.indexCast v3026
  let c176_1457 : Index := 176#32
  ![v3082.toNat, 176]
def k1_off752 (v946 : BitVec 32) (v948 : BitVec 32) (k1_t51 : Fin (k1_t51_loop v946 v948).trips) (k1_t55 : Fin (k1_t55_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t55
  let v3026 : BitVec 32 := Scalar.addi v3015 arg46
  let v3087 : Index := Scalar.indexCast v3026
  let c192_1458 : Index := 192#32
  ![v3087.toNat, 192]
def k1_off753 (v946 : BitVec 32) (v948 : BitVec 32) (k1_t51 : Fin (k1_t51_loop v946 v948).trips) (k1_t55 : Fin (k1_t55_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t55
  let v3026 : BitVec 32 := Scalar.addi v3015 arg46
  let v3092 : Index := Scalar.indexCast v3026
  let c208_1459 : Index := 208#32
  ![v3092.toNat, 208]
def k1_off754 (v946 : BitVec 32) (v948 : BitVec 32) (k1_t51 : Fin (k1_t51_loop v946 v948).trips) (k1_t55 : Fin (k1_t55_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t55
  let v3026 : BitVec 32 := Scalar.addi v3015 arg46
  let v3097 : Index := Scalar.indexCast v3026
  let c224_1460 : Index := 224#32
  ![v3097.toNat, 224]
def k1_off755 (v946 : BitVec 32) (v948 : BitVec 32) (k1_t51 : Fin (k1_t51_loop v946 v948).trips) (k1_t55 : Fin (k1_t55_loop v946 v948 k1_t51).trips) : Fin 2 → Nat :=
  let c2_i32_1426 : BitVec 32 := 2#32
  let c0_i32_459 : BitVec 32 := 0#32
  let c1_i32_461 : BitVec 32 := 1#32
  let arg13 : BitVec 32 := Scf.iv c0_i32_459 c1_i32_461 k1_t51
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t55
  let v3026 : BitVec 32 := Scalar.addi v3015 arg46
  let v3102 : Index := Scalar.indexCast v3026
  let c240_1461 : Index := 240#32
  ![v3102.toNat, 240]
@[reducible] def k1_t56_loop (v946 : BitVec 32) (v948 : BitVec 32) : Scf.Loop 32 :=
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let v993 : BitVec 32 := Scalar.addi c0_i32_459 v992
  let c1_i32_462 : BitVec 32 := 1#32
  ⟨v996, v993, c1_i32_462⟩
def k1_off756 (i : grid1.Coords) (v946 : BitVec 32) (v948 : BitVec 32) (k1_t56 : Fin (k1_t56_loop v946 v948).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1446 : BitVec 32 := 64#32
  let v3026 : BitVec 32 := Scalar.muli v2949 c64_i32_1446
  let v3027 : BitVec 32 := Scalar.addi v946 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond51 (v946 : BitVec 32) (v948 : BitVec 32) (k1_t56 : Fin (k1_t56_loop v946 v948).trips) : BitVec 1 :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let v2950 : BitVec 1 := Scalar.cmpi .slt v2949 v970
  let v2951 : BitVec 32 := Scalar.extui v2950
  let c0_i32_1409 : BitVec 32 := 0#32
  let v2952 : BitVec 1 := Scalar.cmpi .ne v2951 c0_i32_1409
  v2952

def k1_off757 (i : grid1.Coords) (v946 : BitVec 32) (v948 : BitVec 32) (k1_t56 : Fin (k1_t56_loop v946 v948).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v946 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond52 (v946 : BitVec 32) (v948 : BitVec 32) (k1_t56 : Fin (k1_t56_loop v946 v948).trips) : BitVec 1 :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c1_i32_1456 : BitVec 32 := 1#32
  let v3049 : BitVec 32 := Scalar.addi v2949 c1_i32_1456
  let v3050 : BitVec 1 := Scalar.cmpi .slt v3049 v970
  let v3051 : BitVec 32 := Scalar.extui v3050
  let c0_i32_1457 : BitVec 32 := 0#32
  let v3052 : BitVec 1 := Scalar.cmpi .ne v3051 c0_i32_1457
  v3052

@[reducible] def k1_t57_loop (v946 : BitVec 32) (v948 : BitVec 32) (k1_t56 : Fin (k1_t56_loop v946 v948).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off758 (v946 : BitVec 32) (v948 : BitVec 32) (k1_t56 : Fin (k1_t56_loop v946 v948).trips) (k1_t57 : Fin (k1_t57_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t57
  let v3026 : BitVec 32 := Scalar.addi v2976 arg46
  let v3027 : Index := Scalar.indexCast v3026
  let c0_1446 : Index := 0#32
  ![v3027.toNat, 0]
def k1_off759 (v946 : BitVec 32) (v948 : BitVec 32) (k1_t56 : Fin (k1_t56_loop v946 v948).trips) (k1_t57 : Fin (k1_t57_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t57
  let v3026 : BitVec 32 := Scalar.addi v2976 arg46
  let v3032 : Index := Scalar.indexCast v3026
  let c16_1447 : Index := 16#32
  ![v3032.toNat, 16]
def k1_off760 (v946 : BitVec 32) (v948 : BitVec 32) (k1_t56 : Fin (k1_t56_loop v946 v948).trips) (k1_t57 : Fin (k1_t57_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t57
  let v3026 : BitVec 32 := Scalar.addi v2976 arg46
  let v3037 : Index := Scalar.indexCast v3026
  let c32_1448 : Index := 32#32
  ![v3037.toNat, 32]
def k1_off761 (v946 : BitVec 32) (v948 : BitVec 32) (k1_t56 : Fin (k1_t56_loop v946 v948).trips) (k1_t57 : Fin (k1_t57_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t57
  let v3026 : BitVec 32 := Scalar.addi v2976 arg46
  let v3042 : Index := Scalar.indexCast v3026
  let c48_1449 : Index := 48#32
  ![v3042.toNat, 48]
def k1_off762 (v946 : BitVec 32) (v948 : BitVec 32) (k1_t56 : Fin (k1_t56_loop v946 v948).trips) (k1_t57 : Fin (k1_t57_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t57
  let v3026 : BitVec 32 := Scalar.addi v2976 arg46
  let v3047 : Index := Scalar.indexCast v3026
  let c64_1450 : Index := 64#32
  ![v3047.toNat, 64]
def k1_off763 (v946 : BitVec 32) (v948 : BitVec 32) (k1_t56 : Fin (k1_t56_loop v946 v948).trips) (k1_t57 : Fin (k1_t57_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t57
  let v3026 : BitVec 32 := Scalar.addi v2976 arg46
  let v3052 : Index := Scalar.indexCast v3026
  let c80_1451 : Index := 80#32
  ![v3052.toNat, 80]
def k1_off764 (v946 : BitVec 32) (v948 : BitVec 32) (k1_t56 : Fin (k1_t56_loop v946 v948).trips) (k1_t57 : Fin (k1_t57_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t57
  let v3026 : BitVec 32 := Scalar.addi v2976 arg46
  let v3057 : Index := Scalar.indexCast v3026
  let c96_1452 : Index := 96#32
  ![v3057.toNat, 96]
def k1_off765 (v946 : BitVec 32) (v948 : BitVec 32) (k1_t56 : Fin (k1_t56_loop v946 v948).trips) (k1_t57 : Fin (k1_t57_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t57
  let v3026 : BitVec 32 := Scalar.addi v2976 arg46
  let v3062 : Index := Scalar.indexCast v3026
  let c112_1453 : Index := 112#32
  ![v3062.toNat, 112]
def k1_off766 (v946 : BitVec 32) (v948 : BitVec 32) (k1_t56 : Fin (k1_t56_loop v946 v948).trips) (k1_t57 : Fin (k1_t57_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t57
  let v3026 : BitVec 32 := Scalar.addi v2976 arg46
  let v3067 : Index := Scalar.indexCast v3026
  let c128_1454 : Index := 128#32
  ![v3067.toNat, 128]
def k1_off767 (v946 : BitVec 32) (v948 : BitVec 32) (k1_t56 : Fin (k1_t56_loop v946 v948).trips) (k1_t57 : Fin (k1_t57_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t57
  let v3026 : BitVec 32 := Scalar.addi v2976 arg46
  let v3072 : Index := Scalar.indexCast v3026
  let c144_1455 : Index := 144#32
  ![v3072.toNat, 144]
def k1_off768 (v946 : BitVec 32) (v948 : BitVec 32) (k1_t56 : Fin (k1_t56_loop v946 v948).trips) (k1_t57 : Fin (k1_t57_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t57
  let v3026 : BitVec 32 := Scalar.addi v2976 arg46
  let v3077 : Index := Scalar.indexCast v3026
  let c160_1456 : Index := 160#32
  ![v3077.toNat, 160]
def k1_off769 (v946 : BitVec 32) (v948 : BitVec 32) (k1_t56 : Fin (k1_t56_loop v946 v948).trips) (k1_t57 : Fin (k1_t57_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t57
  let v3026 : BitVec 32 := Scalar.addi v2976 arg46
  let v3082 : Index := Scalar.indexCast v3026
  let c176_1457 : Index := 176#32
  ![v3082.toNat, 176]
def k1_off770 (v946 : BitVec 32) (v948 : BitVec 32) (k1_t56 : Fin (k1_t56_loop v946 v948).trips) (k1_t57 : Fin (k1_t57_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t57
  let v3026 : BitVec 32 := Scalar.addi v2976 arg46
  let v3087 : Index := Scalar.indexCast v3026
  let c192_1458 : Index := 192#32
  ![v3087.toNat, 192]
def k1_off771 (v946 : BitVec 32) (v948 : BitVec 32) (k1_t56 : Fin (k1_t56_loop v946 v948).trips) (k1_t57 : Fin (k1_t57_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t57
  let v3026 : BitVec 32 := Scalar.addi v2976 arg46
  let v3092 : Index := Scalar.indexCast v3026
  let c208_1459 : Index := 208#32
  ![v3092.toNat, 208]
def k1_off772 (v946 : BitVec 32) (v948 : BitVec 32) (k1_t56 : Fin (k1_t56_loop v946 v948).trips) (k1_t57 : Fin (k1_t57_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t57
  let v3026 : BitVec 32 := Scalar.addi v2976 arg46
  let v3097 : Index := Scalar.indexCast v3026
  let c224_1460 : Index := 224#32
  ![v3097.toNat, 224]
def k1_off773 (v946 : BitVec 32) (v948 : BitVec 32) (k1_t56 : Fin (k1_t56_loop v946 v948).trips) (k1_t57 : Fin (k1_t57_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t57
  let v3026 : BitVec 32 := Scalar.addi v2976 arg46
  let v3102 : Index := Scalar.indexCast v3026
  let c240_1461 : Index := 240#32
  ![v3102.toNat, 240]
@[reducible] def k1_t58_loop (v946 : BitVec 32) (v948 : BitVec 32) (k1_t56 : Fin (k1_t56_loop v946 v948).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off774 (v946 : BitVec 32) (v948 : BitVec 32) (k1_t56 : Fin (k1_t56_loop v946 v948).trips) (k1_t58 : Fin (k1_t58_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t58
  let v3026 : BitVec 32 := Scalar.addi v2976 arg46
  let v3027 : Index := Scalar.indexCast v3026
  let c0_1446 : Index := 0#32
  ![v3027.toNat, 0]
def k1_off775 (v946 : BitVec 32) (v948 : BitVec 32) (k1_t56 : Fin (k1_t56_loop v946 v948).trips) (k1_t58 : Fin (k1_t58_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t58
  let v3026 : BitVec 32 := Scalar.addi v2976 arg46
  let v3032 : Index := Scalar.indexCast v3026
  let c16_1447 : Index := 16#32
  ![v3032.toNat, 16]
def k1_off776 (v946 : BitVec 32) (v948 : BitVec 32) (k1_t56 : Fin (k1_t56_loop v946 v948).trips) (k1_t58 : Fin (k1_t58_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t58
  let v3026 : BitVec 32 := Scalar.addi v2976 arg46
  let v3037 : Index := Scalar.indexCast v3026
  let c32_1448 : Index := 32#32
  ![v3037.toNat, 32]
def k1_off777 (v946 : BitVec 32) (v948 : BitVec 32) (k1_t56 : Fin (k1_t56_loop v946 v948).trips) (k1_t58 : Fin (k1_t58_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t58
  let v3026 : BitVec 32 := Scalar.addi v2976 arg46
  let v3042 : Index := Scalar.indexCast v3026
  let c48_1449 : Index := 48#32
  ![v3042.toNat, 48]
def k1_off778 (v946 : BitVec 32) (v948 : BitVec 32) (k1_t56 : Fin (k1_t56_loop v946 v948).trips) (k1_t58 : Fin (k1_t58_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t58
  let v3026 : BitVec 32 := Scalar.addi v2976 arg46
  let v3047 : Index := Scalar.indexCast v3026
  let c64_1450 : Index := 64#32
  ![v3047.toNat, 64]
def k1_off779 (v946 : BitVec 32) (v948 : BitVec 32) (k1_t56 : Fin (k1_t56_loop v946 v948).trips) (k1_t58 : Fin (k1_t58_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t58
  let v3026 : BitVec 32 := Scalar.addi v2976 arg46
  let v3052 : Index := Scalar.indexCast v3026
  let c80_1451 : Index := 80#32
  ![v3052.toNat, 80]
def k1_off780 (v946 : BitVec 32) (v948 : BitVec 32) (k1_t56 : Fin (k1_t56_loop v946 v948).trips) (k1_t58 : Fin (k1_t58_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t58
  let v3026 : BitVec 32 := Scalar.addi v2976 arg46
  let v3057 : Index := Scalar.indexCast v3026
  let c96_1452 : Index := 96#32
  ![v3057.toNat, 96]
def k1_off781 (v946 : BitVec 32) (v948 : BitVec 32) (k1_t56 : Fin (k1_t56_loop v946 v948).trips) (k1_t58 : Fin (k1_t58_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t58
  let v3026 : BitVec 32 := Scalar.addi v2976 arg46
  let v3062 : Index := Scalar.indexCast v3026
  let c112_1453 : Index := 112#32
  ![v3062.toNat, 112]
def k1_off782 (v946 : BitVec 32) (v948 : BitVec 32) (k1_t56 : Fin (k1_t56_loop v946 v948).trips) (k1_t58 : Fin (k1_t58_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t58
  let v3026 : BitVec 32 := Scalar.addi v2976 arg46
  let v3067 : Index := Scalar.indexCast v3026
  let c128_1454 : Index := 128#32
  ![v3067.toNat, 128]
def k1_off783 (v946 : BitVec 32) (v948 : BitVec 32) (k1_t56 : Fin (k1_t56_loop v946 v948).trips) (k1_t58 : Fin (k1_t58_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t58
  let v3026 : BitVec 32 := Scalar.addi v2976 arg46
  let v3072 : Index := Scalar.indexCast v3026
  let c144_1455 : Index := 144#32
  ![v3072.toNat, 144]

variable {F : FTy → Type} [FloatOps F]

def k1_off784 (v946 : BitVec 32) (v948 : BitVec 32) (k1_t56 : Fin (k1_t56_loop v946 v948).trips) (k1_t58 : Fin (k1_t58_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t58
  let v3026 : BitVec 32 := Scalar.addi v2976 arg46
  let v3077 : Index := Scalar.indexCast v3026
  let c160_1456 : Index := 160#32
  ![v3077.toNat, 160]
def k1_off785 (v946 : BitVec 32) (v948 : BitVec 32) (k1_t56 : Fin (k1_t56_loop v946 v948).trips) (k1_t58 : Fin (k1_t58_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t58
  let v3026 : BitVec 32 := Scalar.addi v2976 arg46
  let v3082 : Index := Scalar.indexCast v3026
  let c176_1457 : Index := 176#32
  ![v3082.toNat, 176]
def k1_off786 (v946 : BitVec 32) (v948 : BitVec 32) (k1_t56 : Fin (k1_t56_loop v946 v948).trips) (k1_t58 : Fin (k1_t58_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t58
  let v3026 : BitVec 32 := Scalar.addi v2976 arg46
  let v3087 : Index := Scalar.indexCast v3026
  let c192_1458 : Index := 192#32
  ![v3087.toNat, 192]
def k1_off787 (v946 : BitVec 32) (v948 : BitVec 32) (k1_t56 : Fin (k1_t56_loop v946 v948).trips) (k1_t58 : Fin (k1_t58_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t58
  let v3026 : BitVec 32 := Scalar.addi v2976 arg46
  let v3092 : Index := Scalar.indexCast v3026
  let c208_1459 : Index := 208#32
  ![v3092.toNat, 208]
def k1_off788 (v946 : BitVec 32) (v948 : BitVec 32) (k1_t56 : Fin (k1_t56_loop v946 v948).trips) (k1_t58 : Fin (k1_t58_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t58
  let v3026 : BitVec 32 := Scalar.addi v2976 arg46
  let v3097 : Index := Scalar.indexCast v3026
  let c224_1460 : Index := 224#32
  ![v3097.toNat, 224]
def k1_off789 (v946 : BitVec 32) (v948 : BitVec 32) (k1_t56 : Fin (k1_t56_loop v946 v948).trips) (k1_t58 : Fin (k1_t58_loop v946 v948 k1_t56).trips) : Fin 2 → Nat :=
  let c2_i32_1408 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2949 : BitVec 32 := Scalar.muli c2_i32_1408 arg13
  let c64_i32_1410 : BitVec 32 := 64#32
  let v2953 : BitVec 32 := Scalar.muli v2949 c64_i32_1410
  let v2954 : BitVec 32 := Scalar.addi v946 v2953
  let c64_i32_1411 : BitVec 32 := 64#32
  let v2955 : BitVec 32 := Scalar.muli v2949 c64_i32_1411
  let v2956 : BitVec 32 := Scalar.addi v946 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v948 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t58
  let v3026 : BitVec 32 := Scalar.addi v2976 arg46
  let v3102 : Index := Scalar.indexCast v3026
  let c240_1461 : Index := 240#32
  ![v3102.toNat, 240]
def k1_off790 (i : grid1.Coords) (v946 : BitVec 32) (v948 : BitVec 32) (k1_t56 : Fin (k1_t56_loop v946 v948).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v946 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond53 (v946 : BitVec 32) (v948 : BitVec 32) (k1_t56 : Fin (k1_t56_loop v946 v948).trips) : BitVec 1 :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let v2989 : BitVec 1 := Scalar.cmpi .slt v2988 v970
  let v2990 : BitVec 32 := Scalar.extui v2989
  let c0_i32_1428 : BitVec 32 := 0#32
  let v2991 : BitVec 1 := Scalar.cmpi .ne v2990 c0_i32_1428
  v2991

def k1_off791 (i : grid1.Coords) (v946 : BitVec 32) (v948 : BitVec 32) (k1_t56 : Fin (k1_t56_loop v946 v948).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v946 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond54 (v946 : BitVec 32) (v948 : BitVec 32) (k1_t56 : Fin (k1_t56_loop v946 v948).trips) : BitVec 1 :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v3050 : BitVec 1 := Scalar.cmpi .slt v3049 v970
  let v3051 : BitVec 32 := Scalar.extui v3050
  let c0_i32_1457 : BitVec 32 := 0#32
  let v3052 : BitVec 1 := Scalar.cmpi .ne v3051 c0_i32_1457
  v3052

@[reducible] def k1_t59_loop (v946 : BitVec 32) (v948 : BitVec 32) (k1_t56 : Fin (k1_t56_loop v946 v948).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off792 (v946 : BitVec 32) (v948 : BitVec 32) (k1_t56 : Fin (k1_t56_loop v946 v948).trips) (k1_t59 : Fin (k1_t59_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t59
  let v3026 : BitVec 32 := Scalar.addi v3015 arg46
  let v3027 : Index := Scalar.indexCast v3026
  let c0_1446 : Index := 0#32
  ![v3027.toNat, 0]
def k1_off793 (v946 : BitVec 32) (v948 : BitVec 32) (k1_t56 : Fin (k1_t56_loop v946 v948).trips) (k1_t59 : Fin (k1_t59_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t59
  let v3026 : BitVec 32 := Scalar.addi v3015 arg46
  let v3032 : Index := Scalar.indexCast v3026
  let c16_1447 : Index := 16#32
  ![v3032.toNat, 16]
def k1_off794 (v946 : BitVec 32) (v948 : BitVec 32) (k1_t56 : Fin (k1_t56_loop v946 v948).trips) (k1_t59 : Fin (k1_t59_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t59
  let v3026 : BitVec 32 := Scalar.addi v3015 arg46
  let v3037 : Index := Scalar.indexCast v3026
  let c32_1448 : Index := 32#32
  ![v3037.toNat, 32]
def k1_off795 (v946 : BitVec 32) (v948 : BitVec 32) (k1_t56 : Fin (k1_t56_loop v946 v948).trips) (k1_t59 : Fin (k1_t59_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t59
  let v3026 : BitVec 32 := Scalar.addi v3015 arg46
  let v3042 : Index := Scalar.indexCast v3026
  let c48_1449 : Index := 48#32
  ![v3042.toNat, 48]
def k1_off796 (v946 : BitVec 32) (v948 : BitVec 32) (k1_t56 : Fin (k1_t56_loop v946 v948).trips) (k1_t59 : Fin (k1_t59_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t59
  let v3026 : BitVec 32 := Scalar.addi v3015 arg46
  let v3047 : Index := Scalar.indexCast v3026
  let c64_1450 : Index := 64#32
  ![v3047.toNat, 64]
def k1_off797 (v946 : BitVec 32) (v948 : BitVec 32) (k1_t56 : Fin (k1_t56_loop v946 v948).trips) (k1_t59 : Fin (k1_t59_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t59
  let v3026 : BitVec 32 := Scalar.addi v3015 arg46
  let v3052 : Index := Scalar.indexCast v3026
  let c80_1451 : Index := 80#32
  ![v3052.toNat, 80]
def k1_off798 (v946 : BitVec 32) (v948 : BitVec 32) (k1_t56 : Fin (k1_t56_loop v946 v948).trips) (k1_t59 : Fin (k1_t59_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t59
  let v3026 : BitVec 32 := Scalar.addi v3015 arg46
  let v3057 : Index := Scalar.indexCast v3026
  let c96_1452 : Index := 96#32
  ![v3057.toNat, 96]
def k1_off799 (v946 : BitVec 32) (v948 : BitVec 32) (k1_t56 : Fin (k1_t56_loop v946 v948).trips) (k1_t59 : Fin (k1_t59_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t59
  let v3026 : BitVec 32 := Scalar.addi v3015 arg46
  let v3062 : Index := Scalar.indexCast v3026
  let c112_1453 : Index := 112#32
  ![v3062.toNat, 112]
def k1_off800 (v946 : BitVec 32) (v948 : BitVec 32) (k1_t56 : Fin (k1_t56_loop v946 v948).trips) (k1_t59 : Fin (k1_t59_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t59
  let v3026 : BitVec 32 := Scalar.addi v3015 arg46
  let v3067 : Index := Scalar.indexCast v3026
  let c128_1454 : Index := 128#32
  ![v3067.toNat, 128]
def k1_off801 (v946 : BitVec 32) (v948 : BitVec 32) (k1_t56 : Fin (k1_t56_loop v946 v948).trips) (k1_t59 : Fin (k1_t59_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t59
  let v3026 : BitVec 32 := Scalar.addi v3015 arg46
  let v3072 : Index := Scalar.indexCast v3026
  let c144_1455 : Index := 144#32
  ![v3072.toNat, 144]
def k1_off802 (v946 : BitVec 32) (v948 : BitVec 32) (k1_t56 : Fin (k1_t56_loop v946 v948).trips) (k1_t59 : Fin (k1_t59_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t59
  let v3026 : BitVec 32 := Scalar.addi v3015 arg46
  let v3077 : Index := Scalar.indexCast v3026
  let c160_1456 : Index := 160#32
  ![v3077.toNat, 160]
def k1_off803 (v946 : BitVec 32) (v948 : BitVec 32) (k1_t56 : Fin (k1_t56_loop v946 v948).trips) (k1_t59 : Fin (k1_t59_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t59
  let v3026 : BitVec 32 := Scalar.addi v3015 arg46
  let v3082 : Index := Scalar.indexCast v3026
  let c176_1457 : Index := 176#32
  ![v3082.toNat, 176]
def k1_off804 (v946 : BitVec 32) (v948 : BitVec 32) (k1_t56 : Fin (k1_t56_loop v946 v948).trips) (k1_t59 : Fin (k1_t59_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t59
  let v3026 : BitVec 32 := Scalar.addi v3015 arg46
  let v3087 : Index := Scalar.indexCast v3026
  let c192_1458 : Index := 192#32
  ![v3087.toNat, 192]
def k1_off805 (v946 : BitVec 32) (v948 : BitVec 32) (k1_t56 : Fin (k1_t56_loop v946 v948).trips) (k1_t59 : Fin (k1_t59_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t59
  let v3026 : BitVec 32 := Scalar.addi v3015 arg46
  let v3092 : Index := Scalar.indexCast v3026
  let c208_1459 : Index := 208#32
  ![v3092.toNat, 208]
def k1_off806 (v946 : BitVec 32) (v948 : BitVec 32) (k1_t56 : Fin (k1_t56_loop v946 v948).trips) (k1_t59 : Fin (k1_t59_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t59
  let v3026 : BitVec 32 := Scalar.addi v3015 arg46
  let v3097 : Index := Scalar.indexCast v3026
  let c224_1460 : Index := 224#32
  ![v3097.toNat, 224]
def k1_off807 (v946 : BitVec 32) (v948 : BitVec 32) (k1_t56 : Fin (k1_t56_loop v946 v948).trips) (k1_t59 : Fin (k1_t59_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t59
  let v3026 : BitVec 32 := Scalar.addi v3015 arg46
  let v3102 : Index := Scalar.indexCast v3026
  let c240_1461 : Index := 240#32
  ![v3102.toNat, 240]
@[reducible] def k1_t60_loop (v946 : BitVec 32) (v948 : BitVec 32) (k1_t56 : Fin (k1_t56_loop v946 v948).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off808 (v946 : BitVec 32) (v948 : BitVec 32) (k1_t56 : Fin (k1_t56_loop v946 v948).trips) (k1_t60 : Fin (k1_t60_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t60
  let v3026 : BitVec 32 := Scalar.addi v3015 arg46
  let v3027 : Index := Scalar.indexCast v3026
  let c0_1446 : Index := 0#32
  ![v3027.toNat, 0]
def k1_off809 (v946 : BitVec 32) (v948 : BitVec 32) (k1_t56 : Fin (k1_t56_loop v946 v948).trips) (k1_t60 : Fin (k1_t60_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t60
  let v3026 : BitVec 32 := Scalar.addi v3015 arg46
  let v3032 : Index := Scalar.indexCast v3026
  let c16_1447 : Index := 16#32
  ![v3032.toNat, 16]
def k1_off810 (v946 : BitVec 32) (v948 : BitVec 32) (k1_t56 : Fin (k1_t56_loop v946 v948).trips) (k1_t60 : Fin (k1_t60_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t60
  let v3026 : BitVec 32 := Scalar.addi v3015 arg46
  let v3037 : Index := Scalar.indexCast v3026
  let c32_1448 : Index := 32#32
  ![v3037.toNat, 32]
def k1_off811 (v946 : BitVec 32) (v948 : BitVec 32) (k1_t56 : Fin (k1_t56_loop v946 v948).trips) (k1_t60 : Fin (k1_t60_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t60
  let v3026 : BitVec 32 := Scalar.addi v3015 arg46
  let v3042 : Index := Scalar.indexCast v3026
  let c48_1449 : Index := 48#32
  ![v3042.toNat, 48]
def k1_off812 (v946 : BitVec 32) (v948 : BitVec 32) (k1_t56 : Fin (k1_t56_loop v946 v948).trips) (k1_t60 : Fin (k1_t60_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t60
  let v3026 : BitVec 32 := Scalar.addi v3015 arg46
  let v3047 : Index := Scalar.indexCast v3026
  let c64_1450 : Index := 64#32
  ![v3047.toNat, 64]
def k1_off813 (v946 : BitVec 32) (v948 : BitVec 32) (k1_t56 : Fin (k1_t56_loop v946 v948).trips) (k1_t60 : Fin (k1_t60_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t60
  let v3026 : BitVec 32 := Scalar.addi v3015 arg46
  let v3052 : Index := Scalar.indexCast v3026
  let c80_1451 : Index := 80#32
  ![v3052.toNat, 80]
def k1_off814 (v946 : BitVec 32) (v948 : BitVec 32) (k1_t56 : Fin (k1_t56_loop v946 v948).trips) (k1_t60 : Fin (k1_t60_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t60
  let v3026 : BitVec 32 := Scalar.addi v3015 arg46
  let v3057 : Index := Scalar.indexCast v3026
  let c96_1452 : Index := 96#32
  ![v3057.toNat, 96]
def k1_off815 (v946 : BitVec 32) (v948 : BitVec 32) (k1_t56 : Fin (k1_t56_loop v946 v948).trips) (k1_t60 : Fin (k1_t60_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t60
  let v3026 : BitVec 32 := Scalar.addi v3015 arg46
  let v3062 : Index := Scalar.indexCast v3026
  let c112_1453 : Index := 112#32
  ![v3062.toNat, 112]
def k1_off816 (v946 : BitVec 32) (v948 : BitVec 32) (k1_t56 : Fin (k1_t56_loop v946 v948).trips) (k1_t60 : Fin (k1_t60_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t60
  let v3026 : BitVec 32 := Scalar.addi v3015 arg46
  let v3067 : Index := Scalar.indexCast v3026
  let c128_1454 : Index := 128#32
  ![v3067.toNat, 128]
def k1_off817 (v946 : BitVec 32) (v948 : BitVec 32) (k1_t56 : Fin (k1_t56_loop v946 v948).trips) (k1_t60 : Fin (k1_t60_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t60
  let v3026 : BitVec 32 := Scalar.addi v3015 arg46
  let v3072 : Index := Scalar.indexCast v3026
  let c144_1455 : Index := 144#32
  ![v3072.toNat, 144]
def k1_off818 (v946 : BitVec 32) (v948 : BitVec 32) (k1_t56 : Fin (k1_t56_loop v946 v948).trips) (k1_t60 : Fin (k1_t60_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t60
  let v3026 : BitVec 32 := Scalar.addi v3015 arg46
  let v3077 : Index := Scalar.indexCast v3026
  let c160_1456 : Index := 160#32
  ![v3077.toNat, 160]
def k1_off819 (v946 : BitVec 32) (v948 : BitVec 32) (k1_t56 : Fin (k1_t56_loop v946 v948).trips) (k1_t60 : Fin (k1_t60_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t60
  let v3026 : BitVec 32 := Scalar.addi v3015 arg46
  let v3082 : Index := Scalar.indexCast v3026
  let c176_1457 : Index := 176#32
  ![v3082.toNat, 176]
def k1_off820 (v946 : BitVec 32) (v948 : BitVec 32) (k1_t56 : Fin (k1_t56_loop v946 v948).trips) (k1_t60 : Fin (k1_t60_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t60
  let v3026 : BitVec 32 := Scalar.addi v3015 arg46
  let v3087 : Index := Scalar.indexCast v3026
  let c192_1458 : Index := 192#32
  ![v3087.toNat, 192]
def k1_off821 (v946 : BitVec 32) (v948 : BitVec 32) (k1_t56 : Fin (k1_t56_loop v946 v948).trips) (k1_t60 : Fin (k1_t60_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t60
  let v3026 : BitVec 32 := Scalar.addi v3015 arg46
  let v3092 : Index := Scalar.indexCast v3026
  let c208_1459 : Index := 208#32
  ![v3092.toNat, 208]
def k1_off822 (v946 : BitVec 32) (v948 : BitVec 32) (k1_t56 : Fin (k1_t56_loop v946 v948).trips) (k1_t60 : Fin (k1_t60_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t60
  let v3026 : BitVec 32 := Scalar.addi v3015 arg46
  let v3097 : Index := Scalar.indexCast v3026
  let c224_1460 : Index := 224#32
  ![v3097.toNat, 224]
def k1_off823 (v946 : BitVec 32) (v948 : BitVec 32) (k1_t56 : Fin (k1_t56_loop v946 v948).trips) (k1_t60 : Fin (k1_t60_loop v946 v948 k1_t56).trips) : Fin 2 → Nat :=
  let c2_i32_1426 : BitVec 32 := 2#32
  let c0_i32_459 : BitVec 32 := 0#32
  let v951 : BitVec 32 := Scalar.subi v948 v946
  let c64_i32_440 : BitVec 32 := 64#32
  let v952 : BitVec 32 := Scalar.addi v951 c64_i32_440
  let c1_i32_441 : BitVec 32 := 1#32
  let v953 : BitVec 32 := Scalar.subi v952 c1_i32_441
  let c0_i32_443 : BitVec 32 := 0#32
  let v955 : BitVec 1 := Scalar.cmpi .sgt v953 c0_i32_443
  let v956 : BitVec 32 := Scalar.extui v955
  let c0_i32_444 : BitVec 32 := 0#32
  let v957 : BitVec 1 := Scalar.cmpi .slt v953 c0_i32_444
  let v958 : BitVec 32 := Scalar.extui v957
  let v959 : BitVec 32 := Scalar.subi v956 v958
  let c64_i32_442 : BitVec 32 := 64#32
  let c0_i32_445 : BitVec 32 := 0#32
  let v960 : BitVec 1 := Scalar.cmpi .sgt c64_i32_442 c0_i32_445
  let v961 : BitVec 32 := Scalar.extui v960
  let c0_i32_446 : BitVec 32 := 0#32
  let v962 : BitVec 1 := Scalar.cmpi .slt c64_i32_442 c0_i32_446
  let v963 : BitVec 32 := Scalar.extui v962
  let v964 : BitVec 32 := Scalar.subi v961 v963
  let v965 : BitVec 1 := Scalar.cmpi .ne v959 v964
  let v966 : BitVec 32 := Scalar.remsi v953 c64_i32_442
  let c0_i32_447 : BitVec 32 := 0#32
  let v967 : BitVec 1 := Scalar.cmpi .ne v966 c0_i32_447
  let v968 : BitVec 1 := Scalar.andi v965 v967
  let v954 : BitVec 32 := Scalar.divsi v953 c64_i32_442
  let c1_i32_448 : BitVec 32 := 1#32
  let v969 : BitVec 32 := Scalar.subi v954 c1_i32_448
  let v970 : BitVec 32 := Scalar.select v968 v969 v954
  let c1_i32_451 : BitVec 32 := 1#32
  let v974 : BitVec 32 := Scalar.addi v970 c1_i32_451
  let c0_i32_453 : BitVec 32 := 0#32
  let v976 : BitVec 1 := Scalar.cmpi .sgt v974 c0_i32_453
  let v977 : BitVec 32 := Scalar.extui v976
  let c0_i32_454 : BitVec 32 := 0#32
  let v978 : BitVec 1 := Scalar.cmpi .slt v974 c0_i32_454
  let v979 : BitVec 32 := Scalar.extui v978
  let v980 : BitVec 32 := Scalar.subi v977 v979
  let c2_i32_452 : BitVec 32 := 2#32
  let c0_i32_455 : BitVec 32 := 0#32
  let v981 : BitVec 1 := Scalar.cmpi .sgt c2_i32_452 c0_i32_455
  let v982 : BitVec 32 := Scalar.extui v981
  let c0_i32_456 : BitVec 32 := 0#32
  let v983 : BitVec 1 := Scalar.cmpi .slt c2_i32_452 c0_i32_456
  let v984 : BitVec 32 := Scalar.extui v983
  let v985 : BitVec 32 := Scalar.subi v982 v984
  let v986 : BitVec 1 := Scalar.cmpi .ne v980 v985
  let v987 : BitVec 32 := Scalar.remsi v974 c2_i32_452
  let c0_i32_457 : BitVec 32 := 0#32
  let v988 : BitVec 1 := Scalar.cmpi .ne v987 c0_i32_457
  let v989 : BitVec 1 := Scalar.andi v986 v988
  let v975 : BitVec 32 := Scalar.divsi v974 c2_i32_452
  let c1_i32_458 : BitVec 32 := 1#32
  let v990 : BitVec 32 := Scalar.subi v975 c1_i32_458
  let v991 : BitVec 32 := Scalar.select v989 v990 v975
  let v992 : BitVec 32 := Scalar.subi v991 c0_i32_459
  let c1_i32_460 : BitVec 32 := 1#32
  let v994 : BitVec 32 := Scalar.divsi v992 c1_i32_460
  let v995 : BitVec 32 := Scalar.muli v994 c1_i32_460
  let v996 : BitVec 32 := Scalar.addi c0_i32_459 v995
  let c1_i32_462 : BitVec 32 := 1#32
  let arg13 : BitVec 32 := Scf.iv v996 c1_i32_462 k1_t56
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v946 v2992
  let c64_i32_1430 : BitVec 32 := 64#32
  let v2994 : BitVec 32 := Scalar.muli v2988 c64_i32_1430
  let v2995 : BitVec 32 := Scalar.addi v946 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v948 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t60
  let v3026 : BitVec 32 := Scalar.addi v3015 arg46
  let v3102 : Index := Scalar.indexCast v3026
  let c240_1461 : Index := 240#32
  ![v3102.toNat, 240]

def k1_chk6_0 (i : grid1.Coords) (v946 : BitVec 32) (v948 : BitVec 32) : Prop :=
  (∀ (k1_h46 : k1_cond46 v946 v948 = 1#1), ∀ a, (k1_off687 i v946) a + S72x256.size a ≤ S100000x512.size a) ∧
  ((k1_t51_loop v946 v948).OK) ∧
  (∀ k1_t51 : Fin (k1_t51_loop v946 v948).trips, ∀ (k1_h47 : k1_cond47 v946 v948 k1_t51 = 1#1), ∀ a, (k1_off688 i v946 v948 k1_t51) a + S72x256.size a ≤ S100000x512.size a) ∧
  (∀ k1_t51 : Fin (k1_t51_loop v946 v948).trips, ∀ (k1_h47 : k1_cond47 v946 v948 k1_t51 = 1#1), ∀ (k1_h48 : k1_cond48 v946 v948 k1_t51 = 1#1), ∀ a, (k1_off689 i v946 v948 k1_t51) a + S72x256.size a ≤ S100000x512.size a) ∧
  (∀ k1_t51 : Fin (k1_t51_loop v946 v948).trips, (k1_t52_loop v946 v948 k1_t51).OK) ∧
  (∀ (k1_t51 : Fin (k1_t51_loop v946 v948).trips) (k1_t52 : Fin (k1_t52_loop v946 v948 k1_t51).trips), ∀ a, (k1_off690 v946 v948 k1_t51 k1_t52) a + S1x16.size a ≤ S72x256.size a) ∧
  (∀ (k1_t51 : Fin (k1_t51_loop v946 v948).trips) (k1_t52 : Fin (k1_t52_loop v946 v948 k1_t51).trips), ∀ a, (k1_off691 v946 v948 k1_t51 k1_t52) a + S1x16.size a ≤ S72x256.size a) ∧
  (∀ (k1_t51 : Fin (k1_t51_loop v946 v948).trips) (k1_t52 : Fin (k1_t52_loop v946 v948 k1_t51).trips), ∀ a, (k1_off692 v946 v948 k1_t51 k1_t52) a + S1x16.size a ≤ S72x256.size a) ∧
  (∀ (k1_t51 : Fin (k1_t51_loop v946 v948).trips) (k1_t52 : Fin (k1_t52_loop v946 v948 k1_t51).trips), ∀ a, (k1_off693 v946 v948 k1_t51 k1_t52) a + S1x16.size a ≤ S72x256.size a) ∧
  (∀ (k1_t51 : Fin (k1_t51_loop v946 v948).trips) (k1_t52 : Fin (k1_t52_loop v946 v948 k1_t51).trips), ∀ a, (k1_off694 v946 v948 k1_t51 k1_t52) a + S1x16.size a ≤ S72x256.size a) ∧
  (∀ (k1_t51 : Fin (k1_t51_loop v946 v948).trips) (k1_t52 : Fin (k1_t52_loop v946 v948 k1_t51).trips), ∀ a, (k1_off695 v946 v948 k1_t51 k1_t52) a + S1x16.size a ≤ S72x256.size a) ∧
  (∀ (k1_t51 : Fin (k1_t51_loop v946 v948).trips) (k1_t52 : Fin (k1_t52_loop v946 v948 k1_t51).trips), ∀ a, (k1_off696 v946 v948 k1_t51 k1_t52) a + S1x16.size a ≤ S72x256.size a) ∧
  (∀ (k1_t51 : Fin (k1_t51_loop v946 v948).trips) (k1_t52 : Fin (k1_t52_loop v946 v948 k1_t51).trips), ∀ a, (k1_off697 v946 v948 k1_t51 k1_t52) a + S1x16.size a ≤ S72x256.size a) ∧
  (∀ (k1_t51 : Fin (k1_t51_loop v946 v948).trips) (k1_t52 : Fin (k1_t52_loop v946 v948 k1_t51).trips), ∀ a, (k1_off698 v946 v948 k1_t51 k1_t52) a + S1x16.size a ≤ S72x256.size a) ∧
  (∀ (k1_t51 : Fin (k1_t51_loop v946 v948).trips) (k1_t52 : Fin (k1_t52_loop v946 v948 k1_t51).trips), ∀ a, (k1_off699 v946 v948 k1_t51 k1_t52) a + S1x16.size a ≤ S72x256.size a) ∧
  (∀ (k1_t51 : Fin (k1_t51_loop v946 v948).trips) (k1_t52 : Fin (k1_t52_loop v946 v948 k1_t51).trips), ∀ a, (k1_off700 v946 v948 k1_t51 k1_t52) a + S1x16.size a ≤ S72x256.size a) ∧
  (∀ (k1_t51 : Fin (k1_t51_loop v946 v948).trips) (k1_t52 : Fin (k1_t52_loop v946 v948 k1_t51).trips), ∀ a, (k1_off701 v946 v948 k1_t51 k1_t52) a + S1x16.size a ≤ S72x256.size a) ∧
  (∀ (k1_t51 : Fin (k1_t51_loop v946 v948).trips) (k1_t52 : Fin (k1_t52_loop v946 v948 k1_t51).trips), ∀ a, (k1_off702 v946 v948 k1_t51 k1_t52) a + S1x16.size a ≤ S72x256.size a) ∧
  (∀ (k1_t51 : Fin (k1_t51_loop v946 v948).trips) (k1_t52 : Fin (k1_t52_loop v946 v948 k1_t51).trips), ∀ a, (k1_off703 v946 v948 k1_t51 k1_t52) a + S1x16.size a ≤ S72x256.size a) ∧
  (∀ (k1_t51 : Fin (k1_t51_loop v946 v948).trips) (k1_t52 : Fin (k1_t52_loop v946 v948 k1_t51).trips), ∀ a, (k1_off704 v946 v948 k1_t51 k1_t52) a + S1x16.size a ≤ S72x256.size a) ∧
  (∀ (k1_t51 : Fin (k1_t51_loop v946 v948).trips) (k1_t52 : Fin (k1_t52_loop v946 v948 k1_t51).trips), ∀ a, (k1_off705 v946 v948 k1_t51 k1_t52) a + S1x16.size a ≤ S72x256.size a) ∧
  (∀ k1_t51 : Fin (k1_t51_loop v946 v948).trips, (k1_t53_loop v946 v948 k1_t51).OK) ∧
  (∀ (k1_t51 : Fin (k1_t51_loop v946 v948).trips) (k1_t53 : Fin (k1_t53_loop v946 v948 k1_t51).trips), ∀ a, (k1_off706 v946 v948 k1_t51 k1_t53) a + S1x16.size a ≤ S72x256.size a) ∧
  (∀ (k1_t51 : Fin (k1_t51_loop v946 v948).trips) (k1_t53 : Fin (k1_t53_loop v946 v948 k1_t51).trips), ∀ a, (k1_off707 v946 v948 k1_t51 k1_t53) a + S1x16.size a ≤ S72x256.size a) ∧
  (∀ (k1_t51 : Fin (k1_t51_loop v946 v948).trips) (k1_t53 : Fin (k1_t53_loop v946 v948 k1_t51).trips), ∀ a, (k1_off708 v946 v948 k1_t51 k1_t53) a + S1x16.size a ≤ S72x256.size a) ∧
  (∀ (k1_t51 : Fin (k1_t51_loop v946 v948).trips) (k1_t53 : Fin (k1_t53_loop v946 v948 k1_t51).trips), ∀ a, (k1_off709 v946 v948 k1_t51 k1_t53) a + S1x16.size a ≤ S72x256.size a) ∧
  (∀ (k1_t51 : Fin (k1_t51_loop v946 v948).trips) (k1_t53 : Fin (k1_t53_loop v946 v948 k1_t51).trips), ∀ a, (k1_off710 v946 v948 k1_t51 k1_t53) a + S1x16.size a ≤ S72x256.size a) ∧
  (∀ (k1_t51 : Fin (k1_t51_loop v946 v948).trips) (k1_t53 : Fin (k1_t53_loop v946 v948 k1_t51).trips), ∀ a, (k1_off711 v946 v948 k1_t51 k1_t53) a + S1x16.size a ≤ S72x256.size a) ∧
  (∀ (k1_t51 : Fin (k1_t51_loop v946 v948).trips) (k1_t53 : Fin (k1_t53_loop v946 v948 k1_t51).trips), ∀ a, (k1_off712 v946 v948 k1_t51 k1_t53) a + S1x16.size a ≤ S72x256.size a) ∧
  (∀ (k1_t51 : Fin (k1_t51_loop v946 v948).trips) (k1_t53 : Fin (k1_t53_loop v946 v948 k1_t51).trips), ∀ a, (k1_off713 v946 v948 k1_t51 k1_t53) a + S1x16.size a ≤ S72x256.size a) ∧
  (∀ (k1_t51 : Fin (k1_t51_loop v946 v948).trips) (k1_t53 : Fin (k1_t53_loop v946 v948 k1_t51).trips), ∀ a, (k1_off714 v946 v948 k1_t51 k1_t53) a + S1x16.size a ≤ S72x256.size a) ∧
  (∀ (k1_t51 : Fin (k1_t51_loop v946 v948).trips) (k1_t53 : Fin (k1_t53_loop v946 v948 k1_t51).trips), ∀ a, (k1_off715 v946 v948 k1_t51 k1_t53) a + S1x16.size a ≤ S72x256.size a)
def k1_chk6_1 (i : grid1.Coords) (v946 : BitVec 32) (v948 : BitVec 32) : Prop :=
  (∀ (k1_t51 : Fin (k1_t51_loop v946 v948).trips) (k1_t53 : Fin (k1_t53_loop v946 v948 k1_t51).trips), ∀ a, (k1_off716 v946 v948 k1_t51 k1_t53) a + S1x16.size a ≤ S72x256.size a) ∧
  (∀ (k1_t51 : Fin (k1_t51_loop v946 v948).trips) (k1_t53 : Fin (k1_t53_loop v946 v948 k1_t51).trips), ∀ a, (k1_off717 v946 v948 k1_t51 k1_t53) a + S1x16.size a ≤ S72x256.size a) ∧
  (∀ (k1_t51 : Fin (k1_t51_loop v946 v948).trips) (k1_t53 : Fin (k1_t53_loop v946 v948 k1_t51).trips), ∀ a, (k1_off718 v946 v948 k1_t51 k1_t53) a + S1x16.size a ≤ S72x256.size a) ∧
  (∀ (k1_t51 : Fin (k1_t51_loop v946 v948).trips) (k1_t53 : Fin (k1_t53_loop v946 v948 k1_t51).trips), ∀ a, (k1_off719 v946 v948 k1_t51 k1_t53) a + S1x16.size a ≤ S72x256.size a) ∧
  (∀ (k1_t51 : Fin (k1_t51_loop v946 v948).trips) (k1_t53 : Fin (k1_t53_loop v946 v948 k1_t51).trips), ∀ a, (k1_off720 v946 v948 k1_t51 k1_t53) a + S1x16.size a ≤ S72x256.size a) ∧
  (∀ (k1_t51 : Fin (k1_t51_loop v946 v948).trips) (k1_t53 : Fin (k1_t53_loop v946 v948 k1_t51).trips), ∀ a, (k1_off721 v946 v948 k1_t51 k1_t53) a + S1x16.size a ≤ S72x256.size a) ∧
  (∀ k1_t51 : Fin (k1_t51_loop v946 v948).trips, ∀ (k1_h49 : k1_cond49 v946 v948 k1_t51 = 1#1), ∀ a, (k1_off722 i v946 v948 k1_t51) a + S72x256.size a ≤ S100000x512.size a) ∧
  (∀ k1_t51 : Fin (k1_t51_loop v946 v948).trips, ∀ (k1_h49 : k1_cond49 v946 v948 k1_t51 = 1#1), ∀ (k1_h50 : k1_cond50 v946 v948 k1_t51 = 1#1), ∀ a, (k1_off723 i v946 v948 k1_t51) a + S72x256.size a ≤ S100000x512.size a) ∧
  (∀ k1_t51 : Fin (k1_t51_loop v946 v948).trips, (k1_t54_loop v946 v948 k1_t51).OK) ∧
  (∀ (k1_t51 : Fin (k1_t51_loop v946 v948).trips) (k1_t54 : Fin (k1_t54_loop v946 v948 k1_t51).trips), ∀ a, (k1_off724 v946 v948 k1_t51 k1_t54) a + S1x16.size a ≤ S72x256.size a) ∧
  (∀ (k1_t51 : Fin (k1_t51_loop v946 v948).trips) (k1_t54 : Fin (k1_t54_loop v946 v948 k1_t51).trips), ∀ a, (k1_off725 v946 v948 k1_t51 k1_t54) a + S1x16.size a ≤ S72x256.size a) ∧
  (∀ (k1_t51 : Fin (k1_t51_loop v946 v948).trips) (k1_t54 : Fin (k1_t54_loop v946 v948 k1_t51).trips), ∀ a, (k1_off726 v946 v948 k1_t51 k1_t54) a + S1x16.size a ≤ S72x256.size a) ∧
  (∀ (k1_t51 : Fin (k1_t51_loop v946 v948).trips) (k1_t54 : Fin (k1_t54_loop v946 v948 k1_t51).trips), ∀ a, (k1_off727 v946 v948 k1_t51 k1_t54) a + S1x16.size a ≤ S72x256.size a) ∧
  (∀ (k1_t51 : Fin (k1_t51_loop v946 v948).trips) (k1_t54 : Fin (k1_t54_loop v946 v948 k1_t51).trips), ∀ a, (k1_off728 v946 v948 k1_t51 k1_t54) a + S1x16.size a ≤ S72x256.size a) ∧
  (∀ (k1_t51 : Fin (k1_t51_loop v946 v948).trips) (k1_t54 : Fin (k1_t54_loop v946 v948 k1_t51).trips), ∀ a, (k1_off729 v946 v948 k1_t51 k1_t54) a + S1x16.size a ≤ S72x256.size a) ∧
  (∀ (k1_t51 : Fin (k1_t51_loop v946 v948).trips) (k1_t54 : Fin (k1_t54_loop v946 v948 k1_t51).trips), ∀ a, (k1_off730 v946 v948 k1_t51 k1_t54) a + S1x16.size a ≤ S72x256.size a) ∧
  (∀ (k1_t51 : Fin (k1_t51_loop v946 v948).trips) (k1_t54 : Fin (k1_t54_loop v946 v948 k1_t51).trips), ∀ a, (k1_off731 v946 v948 k1_t51 k1_t54) a + S1x16.size a ≤ S72x256.size a) ∧
  (∀ (k1_t51 : Fin (k1_t51_loop v946 v948).trips) (k1_t54 : Fin (k1_t54_loop v946 v948 k1_t51).trips), ∀ a, (k1_off732 v946 v948 k1_t51 k1_t54) a + S1x16.size a ≤ S72x256.size a) ∧
  (∀ (k1_t51 : Fin (k1_t51_loop v946 v948).trips) (k1_t54 : Fin (k1_t54_loop v946 v948 k1_t51).trips), ∀ a, (k1_off733 v946 v948 k1_t51 k1_t54) a + S1x16.size a ≤ S72x256.size a) ∧
  (∀ (k1_t51 : Fin (k1_t51_loop v946 v948).trips) (k1_t54 : Fin (k1_t54_loop v946 v948 k1_t51).trips), ∀ a, (k1_off734 v946 v948 k1_t51 k1_t54) a + S1x16.size a ≤ S72x256.size a) ∧
  (∀ (k1_t51 : Fin (k1_t51_loop v946 v948).trips) (k1_t54 : Fin (k1_t54_loop v946 v948 k1_t51).trips), ∀ a, (k1_off735 v946 v948 k1_t51 k1_t54) a + S1x16.size a ≤ S72x256.size a) ∧
  (∀ (k1_t51 : Fin (k1_t51_loop v946 v948).trips) (k1_t54 : Fin (k1_t54_loop v946 v948 k1_t51).trips), ∀ a, (k1_off736 v946 v948 k1_t51 k1_t54) a + S1x16.size a ≤ S72x256.size a) ∧
  (∀ (k1_t51 : Fin (k1_t51_loop v946 v948).trips) (k1_t54 : Fin (k1_t54_loop v946 v948 k1_t51).trips), ∀ a, (k1_off737 v946 v948 k1_t51 k1_t54) a + S1x16.size a ≤ S72x256.size a) ∧
  (∀ (k1_t51 : Fin (k1_t51_loop v946 v948).trips) (k1_t54 : Fin (k1_t54_loop v946 v948 k1_t51).trips), ∀ a, (k1_off738 v946 v948 k1_t51 k1_t54) a + S1x16.size a ≤ S72x256.size a) ∧
  (∀ (k1_t51 : Fin (k1_t51_loop v946 v948).trips) (k1_t54 : Fin (k1_t54_loop v946 v948 k1_t51).trips), ∀ a, (k1_off739 v946 v948 k1_t51 k1_t54) a + S1x16.size a ≤ S72x256.size a) ∧
  (∀ k1_t51 : Fin (k1_t51_loop v946 v948).trips, (k1_t55_loop v946 v948 k1_t51).OK) ∧
  (∀ (k1_t51 : Fin (k1_t51_loop v946 v948).trips) (k1_t55 : Fin (k1_t55_loop v946 v948 k1_t51).trips), ∀ a, (k1_off740 v946 v948 k1_t51 k1_t55) a + S1x16.size a ≤ S72x256.size a) ∧
  (∀ (k1_t51 : Fin (k1_t51_loop v946 v948).trips) (k1_t55 : Fin (k1_t55_loop v946 v948 k1_t51).trips), ∀ a, (k1_off741 v946 v948 k1_t51 k1_t55) a + S1x16.size a ≤ S72x256.size a) ∧
  (∀ (k1_t51 : Fin (k1_t51_loop v946 v948).trips) (k1_t55 : Fin (k1_t55_loop v946 v948 k1_t51).trips), ∀ a, (k1_off742 v946 v948 k1_t51 k1_t55) a + S1x16.size a ≤ S72x256.size a) ∧
  (∀ (k1_t51 : Fin (k1_t51_loop v946 v948).trips) (k1_t55 : Fin (k1_t55_loop v946 v948 k1_t51).trips), ∀ a, (k1_off743 v946 v948 k1_t51 k1_t55) a + S1x16.size a ≤ S72x256.size a) ∧
  (∀ (k1_t51 : Fin (k1_t51_loop v946 v948).trips) (k1_t55 : Fin (k1_t55_loop v946 v948 k1_t51).trips), ∀ a, (k1_off744 v946 v948 k1_t51 k1_t55) a + S1x16.size a ≤ S72x256.size a) ∧
  (∀ (k1_t51 : Fin (k1_t51_loop v946 v948).trips) (k1_t55 : Fin (k1_t55_loop v946 v948 k1_t51).trips), ∀ a, (k1_off745 v946 v948 k1_t51 k1_t55) a + S1x16.size a ≤ S72x256.size a)
def k1_chk6_2 (i : grid1.Coords) (v946 : BitVec 32) (v948 : BitVec 32) : Prop :=
  (∀ (k1_t51 : Fin (k1_t51_loop v946 v948).trips) (k1_t55 : Fin (k1_t55_loop v946 v948 k1_t51).trips), ∀ a, (k1_off746 v946 v948 k1_t51 k1_t55) a + S1x16.size a ≤ S72x256.size a) ∧
  (∀ (k1_t51 : Fin (k1_t51_loop v946 v948).trips) (k1_t55 : Fin (k1_t55_loop v946 v948 k1_t51).trips), ∀ a, (k1_off747 v946 v948 k1_t51 k1_t55) a + S1x16.size a ≤ S72x256.size a) ∧
  (∀ (k1_t51 : Fin (k1_t51_loop v946 v948).trips) (k1_t55 : Fin (k1_t55_loop v946 v948 k1_t51).trips), ∀ a, (k1_off748 v946 v948 k1_t51 k1_t55) a + S1x16.size a ≤ S72x256.size a) ∧
  (∀ (k1_t51 : Fin (k1_t51_loop v946 v948).trips) (k1_t55 : Fin (k1_t55_loop v946 v948 k1_t51).trips), ∀ a, (k1_off749 v946 v948 k1_t51 k1_t55) a + S1x16.size a ≤ S72x256.size a) ∧
  (∀ (k1_t51 : Fin (k1_t51_loop v946 v948).trips) (k1_t55 : Fin (k1_t55_loop v946 v948 k1_t51).trips), ∀ a, (k1_off750 v946 v948 k1_t51 k1_t55) a + S1x16.size a ≤ S72x256.size a) ∧
  (∀ (k1_t51 : Fin (k1_t51_loop v946 v948).trips) (k1_t55 : Fin (k1_t55_loop v946 v948 k1_t51).trips), ∀ a, (k1_off751 v946 v948 k1_t51 k1_t55) a + S1x16.size a ≤ S72x256.size a) ∧
  (∀ (k1_t51 : Fin (k1_t51_loop v946 v948).trips) (k1_t55 : Fin (k1_t55_loop v946 v948 k1_t51).trips), ∀ a, (k1_off752 v946 v948 k1_t51 k1_t55) a + S1x16.size a ≤ S72x256.size a) ∧
  (∀ (k1_t51 : Fin (k1_t51_loop v946 v948).trips) (k1_t55 : Fin (k1_t55_loop v946 v948 k1_t51).trips), ∀ a, (k1_off753 v946 v948 k1_t51 k1_t55) a + S1x16.size a ≤ S72x256.size a) ∧
  (∀ (k1_t51 : Fin (k1_t51_loop v946 v948).trips) (k1_t55 : Fin (k1_t55_loop v946 v948 k1_t51).trips), ∀ a, (k1_off754 v946 v948 k1_t51 k1_t55) a + S1x16.size a ≤ S72x256.size a) ∧
  (∀ (k1_t51 : Fin (k1_t51_loop v946 v948).trips) (k1_t55 : Fin (k1_t55_loop v946 v948 k1_t51).trips), ∀ a, (k1_off755 v946 v948 k1_t51 k1_t55) a + S1x16.size a ≤ S72x256.size a) ∧
  ((k1_t56_loop v946 v948).OK) ∧
  (∀ k1_t56 : Fin (k1_t56_loop v946 v948).trips, ∀ (k1_h51 : k1_cond51 v946 v948 k1_t56 = 1#1), ∀ a, (k1_off756 i v946 v948 k1_t56) a + S72x256.size a ≤ S100000x512.size a) ∧
  (∀ k1_t56 : Fin (k1_t56_loop v946 v948).trips, ∀ (k1_h51 : k1_cond51 v946 v948 k1_t56 = 1#1), ∀ (k1_h52 : k1_cond52 v946 v948 k1_t56 = 1#1), ∀ a, (k1_off757 i v946 v948 k1_t56) a + S72x256.size a ≤ S100000x512.size a) ∧
  (∀ k1_t56 : Fin (k1_t56_loop v946 v948).trips, (k1_t57_loop v946 v948 k1_t56).OK) ∧
  (∀ (k1_t56 : Fin (k1_t56_loop v946 v948).trips) (k1_t57 : Fin (k1_t57_loop v946 v948 k1_t56).trips), ∀ a, (k1_off758 v946 v948 k1_t56 k1_t57) a + S1x16.size a ≤ S72x256.size a) ∧
  (∀ (k1_t56 : Fin (k1_t56_loop v946 v948).trips) (k1_t57 : Fin (k1_t57_loop v946 v948 k1_t56).trips), ∀ a, (k1_off759 v946 v948 k1_t56 k1_t57) a + S1x16.size a ≤ S72x256.size a) ∧
  (∀ (k1_t56 : Fin (k1_t56_loop v946 v948).trips) (k1_t57 : Fin (k1_t57_loop v946 v948 k1_t56).trips), ∀ a, (k1_off760 v946 v948 k1_t56 k1_t57) a + S1x16.size a ≤ S72x256.size a) ∧
  (∀ (k1_t56 : Fin (k1_t56_loop v946 v948).trips) (k1_t57 : Fin (k1_t57_loop v946 v948 k1_t56).trips), ∀ a, (k1_off761 v946 v948 k1_t56 k1_t57) a + S1x16.size a ≤ S72x256.size a) ∧
  (∀ (k1_t56 : Fin (k1_t56_loop v946 v948).trips) (k1_t57 : Fin (k1_t57_loop v946 v948 k1_t56).trips), ∀ a, (k1_off762 v946 v948 k1_t56 k1_t57) a + S1x16.size a ≤ S72x256.size a) ∧
  (∀ (k1_t56 : Fin (k1_t56_loop v946 v948).trips) (k1_t57 : Fin (k1_t57_loop v946 v948 k1_t56).trips), ∀ a, (k1_off763 v946 v948 k1_t56 k1_t57) a + S1x16.size a ≤ S72x256.size a) ∧
  (∀ (k1_t56 : Fin (k1_t56_loop v946 v948).trips) (k1_t57 : Fin (k1_t57_loop v946 v948 k1_t56).trips), ∀ a, (k1_off764 v946 v948 k1_t56 k1_t57) a + S1x16.size a ≤ S72x256.size a) ∧
  (∀ (k1_t56 : Fin (k1_t56_loop v946 v948).trips) (k1_t57 : Fin (k1_t57_loop v946 v948 k1_t56).trips), ∀ a, (k1_off765 v946 v948 k1_t56 k1_t57) a + S1x16.size a ≤ S72x256.size a) ∧
  (∀ (k1_t56 : Fin (k1_t56_loop v946 v948).trips) (k1_t57 : Fin (k1_t57_loop v946 v948 k1_t56).trips), ∀ a, (k1_off766 v946 v948 k1_t56 k1_t57) a + S1x16.size a ≤ S72x256.size a) ∧
  (∀ (k1_t56 : Fin (k1_t56_loop v946 v948).trips) (k1_t57 : Fin (k1_t57_loop v946 v948 k1_t56).trips), ∀ a, (k1_off767 v946 v948 k1_t56 k1_t57) a + S1x16.size a ≤ S72x256.size a) ∧
  (∀ (k1_t56 : Fin (k1_t56_loop v946 v948).trips) (k1_t57 : Fin (k1_t57_loop v946 v948 k1_t56).trips), ∀ a, (k1_off768 v946 v948 k1_t56 k1_t57) a + S1x16.size a ≤ S72x256.size a) ∧
  (∀ (k1_t56 : Fin (k1_t56_loop v946 v948).trips) (k1_t57 : Fin (k1_t57_loop v946 v948 k1_t56).trips), ∀ a, (k1_off769 v946 v948 k1_t56 k1_t57) a + S1x16.size a ≤ S72x256.size a) ∧
  (∀ (k1_t56 : Fin (k1_t56_loop v946 v948).trips) (k1_t57 : Fin (k1_t57_loop v946 v948 k1_t56).trips), ∀ a, (k1_off770 v946 v948 k1_t56 k1_t57) a + S1x16.size a ≤ S72x256.size a) ∧
  (∀ (k1_t56 : Fin (k1_t56_loop v946 v948).trips) (k1_t57 : Fin (k1_t57_loop v946 v948 k1_t56).trips), ∀ a, (k1_off771 v946 v948 k1_t56 k1_t57) a + S1x16.size a ≤ S72x256.size a) ∧
  (∀ (k1_t56 : Fin (k1_t56_loop v946 v948).trips) (k1_t57 : Fin (k1_t57_loop v946 v948 k1_t56).trips), ∀ a, (k1_off772 v946 v948 k1_t56 k1_t57) a + S1x16.size a ≤ S72x256.size a) ∧
  (∀ (k1_t56 : Fin (k1_t56_loop v946 v948).trips) (k1_t57 : Fin (k1_t57_loop v946 v948 k1_t56).trips), ∀ a, (k1_off773 v946 v948 k1_t56 k1_t57) a + S1x16.size a ≤ S72x256.size a) ∧
  (∀ k1_t56 : Fin (k1_t56_loop v946 v948).trips, (k1_t58_loop v946 v948 k1_t56).OK) ∧
  (∀ (k1_t56 : Fin (k1_t56_loop v946 v948).trips) (k1_t58 : Fin (k1_t58_loop v946 v948 k1_t56).trips), ∀ a, (k1_off774 v946 v948 k1_t56 k1_t58) a + S1x16.size a ≤ S72x256.size a)
def k1_chk6_3 (i : grid1.Coords) (v946 : BitVec 32) (v948 : BitVec 32) : Prop :=
  (∀ (k1_t56 : Fin (k1_t56_loop v946 v948).trips) (k1_t58 : Fin (k1_t58_loop v946 v948 k1_t56).trips), ∀ a, (k1_off775 v946 v948 k1_t56 k1_t58) a + S1x16.size a ≤ S72x256.size a) ∧
  (∀ (k1_t56 : Fin (k1_t56_loop v946 v948).trips) (k1_t58 : Fin (k1_t58_loop v946 v948 k1_t56).trips), ∀ a, (k1_off776 v946 v948 k1_t56 k1_t58) a + S1x16.size a ≤ S72x256.size a) ∧
  (∀ (k1_t56 : Fin (k1_t56_loop v946 v948).trips) (k1_t58 : Fin (k1_t58_loop v946 v948 k1_t56).trips), ∀ a, (k1_off777 v946 v948 k1_t56 k1_t58) a + S1x16.size a ≤ S72x256.size a) ∧
  (∀ (k1_t56 : Fin (k1_t56_loop v946 v948).trips) (k1_t58 : Fin (k1_t58_loop v946 v948 k1_t56).trips), ∀ a, (k1_off778 v946 v948 k1_t56 k1_t58) a + S1x16.size a ≤ S72x256.size a) ∧
  (∀ (k1_t56 : Fin (k1_t56_loop v946 v948).trips) (k1_t58 : Fin (k1_t58_loop v946 v948 k1_t56).trips), ∀ a, (k1_off779 v946 v948 k1_t56 k1_t58) a + S1x16.size a ≤ S72x256.size a) ∧
  (∀ (k1_t56 : Fin (k1_t56_loop v946 v948).trips) (k1_t58 : Fin (k1_t58_loop v946 v948 k1_t56).trips), ∀ a, (k1_off780 v946 v948 k1_t56 k1_t58) a + S1x16.size a ≤ S72x256.size a) ∧
  (∀ (k1_t56 : Fin (k1_t56_loop v946 v948).trips) (k1_t58 : Fin (k1_t58_loop v946 v948 k1_t56).trips), ∀ a, (k1_off781 v946 v948 k1_t56 k1_t58) a + S1x16.size a ≤ S72x256.size a) ∧
  (∀ (k1_t56 : Fin (k1_t56_loop v946 v948).trips) (k1_t58 : Fin (k1_t58_loop v946 v948 k1_t56).trips), ∀ a, (k1_off782 v946 v948 k1_t56 k1_t58) a + S1x16.size a ≤ S72x256.size a) ∧
  (∀ (k1_t56 : Fin (k1_t56_loop v946 v948).trips) (k1_t58 : Fin (k1_t58_loop v946 v948 k1_t56).trips), ∀ a, (k1_off783 v946 v948 k1_t56 k1_t58) a + S1x16.size a ≤ S72x256.size a) ∧
  (∀ (k1_t56 : Fin (k1_t56_loop v946 v948).trips) (k1_t58 : Fin (k1_t58_loop v946 v948 k1_t56).trips), ∀ a, (k1_off784 v946 v948 k1_t56 k1_t58) a + S1x16.size a ≤ S72x256.size a) ∧
  (∀ (k1_t56 : Fin (k1_t56_loop v946 v948).trips) (k1_t58 : Fin (k1_t58_loop v946 v948 k1_t56).trips), ∀ a, (k1_off785 v946 v948 k1_t56 k1_t58) a + S1x16.size a ≤ S72x256.size a) ∧
  (∀ (k1_t56 : Fin (k1_t56_loop v946 v948).trips) (k1_t58 : Fin (k1_t58_loop v946 v948 k1_t56).trips), ∀ a, (k1_off786 v946 v948 k1_t56 k1_t58) a + S1x16.size a ≤ S72x256.size a) ∧
  (∀ (k1_t56 : Fin (k1_t56_loop v946 v948).trips) (k1_t58 : Fin (k1_t58_loop v946 v948 k1_t56).trips), ∀ a, (k1_off787 v946 v948 k1_t56 k1_t58) a + S1x16.size a ≤ S72x256.size a) ∧
  (∀ (k1_t56 : Fin (k1_t56_loop v946 v948).trips) (k1_t58 : Fin (k1_t58_loop v946 v948 k1_t56).trips), ∀ a, (k1_off788 v946 v948 k1_t56 k1_t58) a + S1x16.size a ≤ S72x256.size a) ∧
  (∀ (k1_t56 : Fin (k1_t56_loop v946 v948).trips) (k1_t58 : Fin (k1_t58_loop v946 v948 k1_t56).trips), ∀ a, (k1_off789 v946 v948 k1_t56 k1_t58) a + S1x16.size a ≤ S72x256.size a) ∧
  (∀ k1_t56 : Fin (k1_t56_loop v946 v948).trips, ∀ (k1_h53 : k1_cond53 v946 v948 k1_t56 = 1#1), ∀ a, (k1_off790 i v946 v948 k1_t56) a + S72x256.size a ≤ S100000x512.size a) ∧
  (∀ k1_t56 : Fin (k1_t56_loop v946 v948).trips, ∀ (k1_h53 : k1_cond53 v946 v948 k1_t56 = 1#1), ∀ (k1_h54 : k1_cond54 v946 v948 k1_t56 = 1#1), ∀ a, (k1_off791 i v946 v948 k1_t56) a + S72x256.size a ≤ S100000x512.size a) ∧
  (∀ k1_t56 : Fin (k1_t56_loop v946 v948).trips, (k1_t59_loop v946 v948 k1_t56).OK) ∧
  (∀ (k1_t56 : Fin (k1_t56_loop v946 v948).trips) (k1_t59 : Fin (k1_t59_loop v946 v948 k1_t56).trips), ∀ a, (k1_off792 v946 v948 k1_t56 k1_t59) a + S1x16.size a ≤ S72x256.size a) ∧
  (∀ (k1_t56 : Fin (k1_t56_loop v946 v948).trips) (k1_t59 : Fin (k1_t59_loop v946 v948 k1_t56).trips), ∀ a, (k1_off793 v946 v948 k1_t56 k1_t59) a + S1x16.size a ≤ S72x256.size a) ∧
  (∀ (k1_t56 : Fin (k1_t56_loop v946 v948).trips) (k1_t59 : Fin (k1_t59_loop v946 v948 k1_t56).trips), ∀ a, (k1_off794 v946 v948 k1_t56 k1_t59) a + S1x16.size a ≤ S72x256.size a) ∧
  (∀ (k1_t56 : Fin (k1_t56_loop v946 v948).trips) (k1_t59 : Fin (k1_t59_loop v946 v948 k1_t56).trips), ∀ a, (k1_off795 v946 v948 k1_t56 k1_t59) a + S1x16.size a ≤ S72x256.size a) ∧
  (∀ (k1_t56 : Fin (k1_t56_loop v946 v948).trips) (k1_t59 : Fin (k1_t59_loop v946 v948 k1_t56).trips), ∀ a, (k1_off796 v946 v948 k1_t56 k1_t59) a + S1x16.size a ≤ S72x256.size a) ∧
  (∀ (k1_t56 : Fin (k1_t56_loop v946 v948).trips) (k1_t59 : Fin (k1_t59_loop v946 v948 k1_t56).trips), ∀ a, (k1_off797 v946 v948 k1_t56 k1_t59) a + S1x16.size a ≤ S72x256.size a) ∧
  (∀ (k1_t56 : Fin (k1_t56_loop v946 v948).trips) (k1_t59 : Fin (k1_t59_loop v946 v948 k1_t56).trips), ∀ a, (k1_off798 v946 v948 k1_t56 k1_t59) a + S1x16.size a ≤ S72x256.size a) ∧
  (∀ (k1_t56 : Fin (k1_t56_loop v946 v948).trips) (k1_t59 : Fin (k1_t59_loop v946 v948 k1_t56).trips), ∀ a, (k1_off799 v946 v948 k1_t56 k1_t59) a + S1x16.size a ≤ S72x256.size a) ∧
  (∀ (k1_t56 : Fin (k1_t56_loop v946 v948).trips) (k1_t59 : Fin (k1_t59_loop v946 v948 k1_t56).trips), ∀ a, (k1_off800 v946 v948 k1_t56 k1_t59) a + S1x16.size a ≤ S72x256.size a) ∧
  (∀ (k1_t56 : Fin (k1_t56_loop v946 v948).trips) (k1_t59 : Fin (k1_t59_loop v946 v948 k1_t56).trips), ∀ a, (k1_off801 v946 v948 k1_t56 k1_t59) a + S1x16.size a ≤ S72x256.size a) ∧
  (∀ (k1_t56 : Fin (k1_t56_loop v946 v948).trips) (k1_t59 : Fin (k1_t59_loop v946 v948 k1_t56).trips), ∀ a, (k1_off802 v946 v948 k1_t56 k1_t59) a + S1x16.size a ≤ S72x256.size a) ∧
  (∀ (k1_t56 : Fin (k1_t56_loop v946 v948).trips) (k1_t59 : Fin (k1_t59_loop v946 v948 k1_t56).trips), ∀ a, (k1_off803 v946 v948 k1_t56 k1_t59) a + S1x16.size a ≤ S72x256.size a) ∧
  (∀ (k1_t56 : Fin (k1_t56_loop v946 v948).trips) (k1_t59 : Fin (k1_t59_loop v946 v948 k1_t56).trips), ∀ a, (k1_off804 v946 v948 k1_t56 k1_t59) a + S1x16.size a ≤ S72x256.size a) ∧
  (∀ (k1_t56 : Fin (k1_t56_loop v946 v948).trips) (k1_t59 : Fin (k1_t59_loop v946 v948 k1_t56).trips), ∀ a, (k1_off805 v946 v948 k1_t56 k1_t59) a + S1x16.size a ≤ S72x256.size a)
def k1_chk6_4 (i : grid1.Coords) (v946 : BitVec 32) (v948 : BitVec 32) : Prop :=
  (∀ (k1_t56 : Fin (k1_t56_loop v946 v948).trips) (k1_t59 : Fin (k1_t59_loop v946 v948 k1_t56).trips), ∀ a, (k1_off806 v946 v948 k1_t56 k1_t59) a + S1x16.size a ≤ S72x256.size a) ∧
  (∀ (k1_t56 : Fin (k1_t56_loop v946 v948).trips) (k1_t59 : Fin (k1_t59_loop v946 v948 k1_t56).trips), ∀ a, (k1_off807 v946 v948 k1_t56 k1_t59) a + S1x16.size a ≤ S72x256.size a) ∧
  (∀ k1_t56 : Fin (k1_t56_loop v946 v948).trips, (k1_t60_loop v946 v948 k1_t56).OK) ∧
  (∀ (k1_t56 : Fin (k1_t56_loop v946 v948).trips) (k1_t60 : Fin (k1_t60_loop v946 v948 k1_t56).trips), ∀ a, (k1_off808 v946 v948 k1_t56 k1_t60) a + S1x16.size a ≤ S72x256.size a) ∧
  (∀ (k1_t56 : Fin (k1_t56_loop v946 v948).trips) (k1_t60 : Fin (k1_t60_loop v946 v948 k1_t56).trips), ∀ a, (k1_off809 v946 v948 k1_t56 k1_t60) a + S1x16.size a ≤ S72x256.size a) ∧
  (∀ (k1_t56 : Fin (k1_t56_loop v946 v948).trips) (k1_t60 : Fin (k1_t60_loop v946 v948 k1_t56).trips), ∀ a, (k1_off810 v946 v948 k1_t56 k1_t60) a + S1x16.size a ≤ S72x256.size a) ∧
  (∀ (k1_t56 : Fin (k1_t56_loop v946 v948).trips) (k1_t60 : Fin (k1_t60_loop v946 v948 k1_t56).trips), ∀ a, (k1_off811 v946 v948 k1_t56 k1_t60) a + S1x16.size a ≤ S72x256.size a) ∧
  (∀ (k1_t56 : Fin (k1_t56_loop v946 v948).trips) (k1_t60 : Fin (k1_t60_loop v946 v948 k1_t56).trips), ∀ a, (k1_off812 v946 v948 k1_t56 k1_t60) a + S1x16.size a ≤ S72x256.size a) ∧
  (∀ (k1_t56 : Fin (k1_t56_loop v946 v948).trips) (k1_t60 : Fin (k1_t60_loop v946 v948 k1_t56).trips), ∀ a, (k1_off813 v946 v948 k1_t56 k1_t60) a + S1x16.size a ≤ S72x256.size a) ∧
  (∀ (k1_t56 : Fin (k1_t56_loop v946 v948).trips) (k1_t60 : Fin (k1_t60_loop v946 v948 k1_t56).trips), ∀ a, (k1_off814 v946 v948 k1_t56 k1_t60) a + S1x16.size a ≤ S72x256.size a) ∧
  (∀ (k1_t56 : Fin (k1_t56_loop v946 v948).trips) (k1_t60 : Fin (k1_t60_loop v946 v948 k1_t56).trips), ∀ a, (k1_off815 v946 v948 k1_t56 k1_t60) a + S1x16.size a ≤ S72x256.size a) ∧
  (∀ (k1_t56 : Fin (k1_t56_loop v946 v948).trips) (k1_t60 : Fin (k1_t60_loop v946 v948 k1_t56).trips), ∀ a, (k1_off816 v946 v948 k1_t56 k1_t60) a + S1x16.size a ≤ S72x256.size a) ∧
  (∀ (k1_t56 : Fin (k1_t56_loop v946 v948).trips) (k1_t60 : Fin (k1_t60_loop v946 v948 k1_t56).trips), ∀ a, (k1_off817 v946 v948 k1_t56 k1_t60) a + S1x16.size a ≤ S72x256.size a) ∧
  (∀ (k1_t56 : Fin (k1_t56_loop v946 v948).trips) (k1_t60 : Fin (k1_t60_loop v946 v948 k1_t56).trips), ∀ a, (k1_off818 v946 v948 k1_t56 k1_t60) a + S1x16.size a ≤ S72x256.size a) ∧
  (∀ (k1_t56 : Fin (k1_t56_loop v946 v948).trips) (k1_t60 : Fin (k1_t60_loop v946 v948 k1_t56).trips), ∀ a, (k1_off819 v946 v948 k1_t56 k1_t60) a + S1x16.size a ≤ S72x256.size a) ∧
  (∀ (k1_t56 : Fin (k1_t56_loop v946 v948).trips) (k1_t60 : Fin (k1_t60_loop v946 v948 k1_t56).trips), ∀ a, (k1_off820 v946 v948 k1_t56 k1_t60) a + S1x16.size a ≤ S72x256.size a) ∧
  (∀ (k1_t56 : Fin (k1_t56_loop v946 v948).trips) (k1_t60 : Fin (k1_t60_loop v946 v948 k1_t56).trips), ∀ a, (k1_off821 v946 v948 k1_t56 k1_t60) a + S1x16.size a ≤ S72x256.size a) ∧
  (∀ (k1_t56 : Fin (k1_t56_loop v946 v948).trips) (k1_t60 : Fin (k1_t60_loop v946 v948 k1_t56).trips), ∀ a, (k1_off822 v946 v948 k1_t56 k1_t60) a + S1x16.size a ≤ S72x256.size a) ∧
  (∀ (k1_t56 : Fin (k1_t56_loop v946 v948).trips) (k1_t60 : Fin (k1_t60_loop v946 v948 k1_t56).trips), ∀ a, (k1_off823 v946 v948 k1_t56 k1_t60) a + S1x16.size a ≤ S72x256.size a)
def k1_chk6 (i : grid1.Coords) (v946 : BitVec 32) (v948 : BitVec 32) : Prop :=
  k1_chk6_0 i v946 v948 ∧
  k1_chk6_1 i v946 v948 ∧
  k1_chk6_2 i v946 v948 ∧
  k1_chk6_3 i v946 v948 ∧
  k1_chk6_4 i v946 v948
theorem k1_off687_inb : ∀ (i : grid1.Coords) (v946 : BitVec 32) (v948 : BitVec 32) (k1_hw6 : k1_chk6 i v946 v948), ∀ (k1_h46 : k1_cond46 v946 v948 = 1#1), ∀ a, (k1_off687 i v946) a + S72x256.size a ≤ S100000x512.size a := fun i v946 v948 k1_hw6 k1_h46 => k1_hw6.1.1 k1_h46
theorem k1_t51_ok : ∀ (i : grid1.Coords) (v946 : BitVec 32) (v948 : BitVec 32) (k1_hw6 : k1_chk6 i v946 v948), (k1_t51_loop v946 v948).OK := fun i v946 v948 k1_hw6 => k1_hw6.1.2.1
theorem k1_off688_inb : ∀ (i : grid1.Coords) (v946 : BitVec 32) (v948 : BitVec 32) (k1_hw6 : k1_chk6 i v946 v948) (k1_t51 : Fin (k1_t51_loop v946 v948).trips), ∀ (k1_h47 : k1_cond47 v946 v948 k1_t51 = 1#1), ∀ a, (k1_off688 i v946 v948 k1_t51) a + S72x256.size a ≤ S100000x512.size a := fun i v946 v948 k1_hw6 k1_t51 k1_h47 => k1_hw6.1.2.2.1 k1_t51 k1_h47
theorem k1_off689_inb : ∀ (i : grid1.Coords) (v946 : BitVec 32) (v948 : BitVec 32) (k1_hw6 : k1_chk6 i v946 v948) (k1_t51 : Fin (k1_t51_loop v946 v948).trips), ∀ (k1_h47 : k1_cond47 v946 v948 k1_t51 = 1#1), ∀ (k1_h48 : k1_cond48 v946 v948 k1_t51 = 1#1), ∀ a, (k1_off689 i v946 v948 k1_t51) a + S72x256.size a ≤ S100000x512.size a := fun i v946 v948 k1_hw6 k1_t51 k1_h47 k1_h48 => k1_hw6.1.2.2.2.1 k1_t51 k1_h47 k1_h48
theorem k1_t52_ok : ∀ (i : grid1.Coords) (v946 : BitVec 32) (v948 : BitVec 32) (k1_hw6 : k1_chk6 i v946 v948) (k1_t51 : Fin (k1_t51_loop v946 v948).trips), (k1_t52_loop v946 v948 k1_t51).OK := fun i v946 v948 k1_hw6 k1_t51 => k1_hw6.1.2.2.2.2.1 k1_t51
theorem k1_off690_inb : ∀ (i : grid1.Coords) (v946 : BitVec 32) (v948 : BitVec 32) (k1_hw6 : k1_chk6 i v946 v948) (k1_t51 : Fin (k1_t51_loop v946 v948).trips) (k1_t52 : Fin (k1_t52_loop v946 v948 k1_t51).trips), ∀ a, (k1_off690 v946 v948 k1_t51 k1_t52) a + S1x16.size a ≤ S72x256.size a := fun i v946 v948 k1_hw6 k1_t51 k1_t52 => k1_hw6.1.2.2.2.2.2.1 k1_t51 k1_t52
theorem k1_off691_inb : ∀ (i : grid1.Coords) (v946 : BitVec 32) (v948 : BitVec 32) (k1_hw6 : k1_chk6 i v946 v948) (k1_t51 : Fin (k1_t51_loop v946 v948).trips) (k1_t52 : Fin (k1_t52_loop v946 v948 k1_t51).trips), ∀ a, (k1_off691 v946 v948 k1_t51 k1_t52) a + S1x16.size a ≤ S72x256.size a := fun i v946 v948 k1_hw6 k1_t51 k1_t52 => k1_hw6.1.2.2.2.2.2.2.1 k1_t51 k1_t52
theorem k1_off692_inb : ∀ (i : grid1.Coords) (v946 : BitVec 32) (v948 : BitVec 32) (k1_hw6 : k1_chk6 i v946 v948) (k1_t51 : Fin (k1_t51_loop v946 v948).trips) (k1_t52 : Fin (k1_t52_loop v946 v948 k1_t51).trips), ∀ a, (k1_off692 v946 v948 k1_t51 k1_t52) a + S1x16.size a ≤ S72x256.size a := fun i v946 v948 k1_hw6 k1_t51 k1_t52 => k1_hw6.1.2.2.2.2.2.2.2.1 k1_t51 k1_t52
theorem k1_off693_inb : ∀ (i : grid1.Coords) (v946 : BitVec 32) (v948 : BitVec 32) (k1_hw6 : k1_chk6 i v946 v948) (k1_t51 : Fin (k1_t51_loop v946 v948).trips) (k1_t52 : Fin (k1_t52_loop v946 v948 k1_t51).trips), ∀ a, (k1_off693 v946 v948 k1_t51 k1_t52) a + S1x16.size a ≤ S72x256.size a := fun i v946 v948 k1_hw6 k1_t51 k1_t52 => k1_hw6.1.2.2.2.2.2.2.2.2.1 k1_t51 k1_t52
theorem k1_off694_inb : ∀ (i : grid1.Coords) (v946 : BitVec 32) (v948 : BitVec 32) (k1_hw6 : k1_chk6 i v946 v948) (k1_t51 : Fin (k1_t51_loop v946 v948).trips) (k1_t52 : Fin (k1_t52_loop v946 v948 k1_t51).trips), ∀ a, (k1_off694 v946 v948 k1_t51 k1_t52) a + S1x16.size a ≤ S72x256.size a := fun i v946 v948 k1_hw6 k1_t51 k1_t52 => k1_hw6.1.2.2.2.2.2.2.2.2.2.1 k1_t51 k1_t52
theorem k1_off695_inb : ∀ (i : grid1.Coords) (v946 : BitVec 32) (v948 : BitVec 32) (k1_hw6 : k1_chk6 i v946 v948) (k1_t51 : Fin (k1_t51_loop v946 v948).trips) (k1_t52 : Fin (k1_t52_loop v946 v948 k1_t51).trips), ∀ a, (k1_off695 v946 v948 k1_t51 k1_t52) a + S1x16.size a ≤ S72x256.size a := fun i v946 v948 k1_hw6 k1_t51 k1_t52 => k1_hw6.1.2.2.2.2.2.2.2.2.2.2.1 k1_t51 k1_t52
theorem k1_off696_inb : ∀ (i : grid1.Coords) (v946 : BitVec 32) (v948 : BitVec 32) (k1_hw6 : k1_chk6 i v946 v948) (k1_t51 : Fin (k1_t51_loop v946 v948).trips) (k1_t52 : Fin (k1_t52_loop v946 v948 k1_t51).trips), ∀ a, (k1_off696 v946 v948 k1_t51 k1_t52) a + S1x16.size a ≤ S72x256.size a := fun i v946 v948 k1_hw6 k1_t51 k1_t52 => k1_hw6.1.2.2.2.2.2.2.2.2.2.2.2.1 k1_t51 k1_t52
theorem k1_off697_inb : ∀ (i : grid1.Coords) (v946 : BitVec 32) (v948 : BitVec 32) (k1_hw6 : k1_chk6 i v946 v948) (k1_t51 : Fin (k1_t51_loop v946 v948).trips) (k1_t52 : Fin (k1_t52_loop v946 v948 k1_t51).trips), ∀ a, (k1_off697 v946 v948 k1_t51 k1_t52) a + S1x16.size a ≤ S72x256.size a := fun i v946 v948 k1_hw6 k1_t51 k1_t52 => k1_hw6.1.2.2.2.2.2.2.2.2.2.2.2.2.1 k1_t51 k1_t52
theorem k1_off698_inb : ∀ (i : grid1.Coords) (v946 : BitVec 32) (v948 : BitVec 32) (k1_hw6 : k1_chk6 i v946 v948) (k1_t51 : Fin (k1_t51_loop v946 v948).trips) (k1_t52 : Fin (k1_t52_loop v946 v948 k1_t51).trips), ∀ a, (k1_off698 v946 v948 k1_t51 k1_t52) a + S1x16.size a ≤ S72x256.size a := fun i v946 v948 k1_hw6 k1_t51 k1_t52 => k1_hw6.1.2.2.2.2.2.2.2.2.2.2.2.2.2.1 k1_t51 k1_t52
theorem k1_off699_inb : ∀ (i : grid1.Coords) (v946 : BitVec 32) (v948 : BitVec 32) (k1_hw6 : k1_chk6 i v946 v948) (k1_t51 : Fin (k1_t51_loop v946 v948).trips) (k1_t52 : Fin (k1_t52_loop v946 v948 k1_t51).trips), ∀ a, (k1_off699 v946 v948 k1_t51 k1_t52) a + S1x16.size a ≤ S72x256.size a := fun i v946 v948 k1_hw6 k1_t51 k1_t52 => k1_hw6.1.2.2.2.2.2.2.2.2.2.2.2.2.2.2.1 k1_t51 k1_t52
theorem k1_off700_inb : ∀ (i : grid1.Coords) (v946 : BitVec 32) (v948 : BitVec 32) (k1_hw6 : k1_chk6 i v946 v948) (k1_t51 : Fin (k1_t51_loop v946 v948).trips) (k1_t52 : Fin (k1_t52_loop v946 v948 k1_t51).trips), ∀ a, (k1_off700 v946 v948 k1_t51 k1_t52) a + S1x16.size a ≤ S72x256.size a := fun i v946 v948 k1_hw6 k1_t51 k1_t52 => k1_hw6.1.2.2.2.2.2.2.2.2.2.2.2.2.2.2.2.1 k1_t51 k1_t52
theorem k1_off701_inb : ∀ (i : grid1.Coords) (v946 : BitVec 32) (v948 : BitVec 32) (k1_hw6 : k1_chk6 i v946 v948) (k1_t51 : Fin (k1_t51_loop v946 v948).trips) (k1_t52 : Fin (k1_t52_loop v946 v948 k1_t51).trips), ∀ a, (k1_off701 v946 v948 k1_t51 k1_t52) a + S1x16.size a ≤ S72x256.size a := fun i v946 v948 k1_hw6 k1_t51 k1_t52 => k1_hw6.1.2.2.2.2.2.2.2.2.2.2.2.2.2.2.2.2.1 k1_t51 k1_t52
theorem k1_off702_inb : ∀ (i : grid1.Coords) (v946 : BitVec 32) (v948 : BitVec 32) (k1_hw6 : k1_chk6 i v946 v948) (k1_t51 : Fin (k1_t51_loop v946 v948).trips) (k1_t52 : Fin (k1_t52_loop v946 v948 k1_t51).trips), ∀ a, (k1_off702 v946 v948 k1_t51 k1_t52) a + S1x16.size a ≤ S72x256.size a := fun i v946 v948 k1_hw6 k1_t51 k1_t52 => k1_hw6.1.2.2.2.2.2.2.2.2.2.2.2.2.2.2.2.2.2.1 k1_t51 k1_t52
theorem k1_off703_inb : ∀ (i : grid1.Coords) (v946 : BitVec 32) (v948 : BitVec 32) (k1_hw6 : k1_chk6 i v946 v948) (k1_t51 : Fin (k1_t51_loop v946 v948).trips) (k1_t52 : Fin (k1_t52_loop v946 v948 k1_t51).trips), ∀ a, (k1_off703 v946 v948 k1_t51 k1_t52) a + S1x16.size a ≤ S72x256.size a := fun i v946 v948 k1_hw6 k1_t51 k1_t52 => k1_hw6.1.2.2.2.2.2.2.2.2.2.2.2.2.2.2.2.2.2.2.1 k1_t51 k1_t52
theorem k1_off704_inb : ∀ (i : grid1.Coords) (v946 : BitVec 32) (v948 : BitVec 32) (k1_hw6 : k1_chk6 i v946 v948) (k1_t51 : Fin (k1_t51_loop v946 v948).trips) (k1_t52 : Fin (k1_t52_loop v946 v948 k1_t51).trips), ∀ a, (k1_off704 v946 v948 k1_t51 k1_t52) a + S1x16.size a ≤ S72x256.size a := fun i v946 v948 k1_hw6 k1_t51 k1_t52 => k1_hw6.1.2.2.2.2.2.2.2.2.2.2.2.2.2.2.2.2.2.2.2.1 k1_t51 k1_t52
theorem k1_off705_inb : ∀ (i : grid1.Coords) (v946 : BitVec 32) (v948 : BitVec 32) (k1_hw6 : k1_chk6 i v946 v948) (k1_t51 : Fin (k1_t51_loop v946 v948).trips) (k1_t52 : Fin (k1_t52_loop v946 v948 k1_t51).trips), ∀ a, (k1_off705 v946 v948 k1_t51 k1_t52) a + S1x16.size a ≤ S72x256.size a := fun i v946 v948 k1_hw6 k1_t51 k1_t52 => k1_hw6.1.2.2.2.2.2.2.2.2.2.2.2.2.2.2.2.2.2.2.2.2.1 k1_t51 k1_t52
theorem k1_t53_ok : ∀ (i : grid1.Coords) (v946 : BitVec 32) (v948 : BitVec 32) (k1_hw6 : k1_chk6 i v946 v948) (k1_t51 : Fin (k1_t51_loop v946 v948).trips), (k1_t53_loop v946 v948 k1_t51).OK := fun i v946 v948 k1_hw6 k1_t51 => k1_hw6.1.2.2.2.2.2.2.2.2.2.2.2.2.2.2.2.2.2.2.2.2.2.1 k1_t51
theorem k1_off706_inb : ∀ (i : grid1.Coords) (v946 : BitVec 32) (v948 : BitVec 32) (k1_hw6 : k1_chk6 i v946 v948) (k1_t51 : Fin (k1_t51_loop v946 v948).trips) (k1_t53 : Fin (k1_t53_loop v946 v948 k1_t51).trips), ∀ a, (k1_off706 v946 v948 k1_t51 k1_t53) a + S1x16.size a ≤ S72x256.size a := fun i v946 v948 k1_hw6 k1_t51 k1_t53 => k1_hw6.1.2.2.2.2.2.2.2.2.2.2.2.2.2.2.2.2.2.2.2.2.2.2.1 k1_t51 k1_t53
theorem k1_off707_inb : ∀ (i : grid1.Coords) (v946 : BitVec 32) (v948 : BitVec 32) (k1_hw6 : k1_chk6 i v946 v948) (k1_t51 : Fin (k1_t51_loop v946 v948).trips) (k1_t53 : Fin (k1_t53_loop v946 v948 k1_t51).trips), ∀ a, (k1_off707 v946 v948 k1_t51 k1_t53) a + S1x16.size a ≤ S72x256.size a := fun i v946 v948 k1_hw6 k1_t51 k1_t53 => k1_hw6.1.2.2.2.2.2.2.2.2.2.2.2.2.2.2.2.2.2.2.2.2.2.2.2.1 k1_t51 k1_t53
theorem k1_off708_inb : ∀ (i : grid1.Coords) (v946 : BitVec 32) (v948 : BitVec 32) (k1_hw6 : k1_chk6 i v946 v948) (k1_t51 : Fin (k1_t51_loop v946 v948).trips) (k1_t53 : Fin (k1_t53_loop v946 v948 k1_t51).trips), ∀ a, (k1_off708 v946 v948 k1_t51 k1_t53) a + S1x16.size a ≤ S72x256.size a := fun i v946 v948 k1_hw6 k1_t51 k1_t53 => k1_hw6.1.2.2.2.2.2.2.2.2.2.2.2.2.2.2.2.2.2.2.2.2.2.2.2.2.1 k1_t51 k1_t53
theorem k1_off709_inb : ∀ (i : grid1.Coords) (v946 : BitVec 32) (v948 : BitVec 32) (k1_hw6 : k1_chk6 i v946 v948) (k1_t51 : Fin (k1_t51_loop v946 v948).trips) (k1_t53 : Fin (k1_t53_loop v946 v948 k1_t51).trips), ∀ a, (k1_off709 v946 v948 k1_t51 k1_t53) a + S1x16.size a ≤ S72x256.size a := fun i v946 v948 k1_hw6 k1_t51 k1_t53 => k1_hw6.1.2.2.2.2.2.2.2.2.2.2.2.2.2.2.2.2.2.2.2.2.2.2.2.2.2.1 k1_t51 k1_t53
theorem k1_off710_inb : ∀ (i : grid1.Coords) (v946 : BitVec 32) (v948 : BitVec 32) (k1_hw6 : k1_chk6 i v946 v948) (k1_t51 : Fin (k1_t51_loop v946 v948).trips) (k1_t53 : Fin (k1_t53_loop v946 v948 k1_t51).trips), ∀ a, (k1_off710 v946 v948 k1_t51 k1_t53) a + S1x16.size a ≤ S72x256.size a := fun i v946 v948 k1_hw6 k1_t51 k1_t53 => k1_hw6.1.2.2.2.2.2.2.2.2.2.2.2.2.2.2.2.2.2.2.2.2.2.2.2.2.2.2.1 k1_t51 k1_t53
theorem k1_off711_inb : ∀ (i : grid1.Coords) (v946 : BitVec 32) (v948 : BitVec 32) (k1_hw6 : k1_chk6 i v946 v948) (k1_t51 : Fin (k1_t51_loop v946 v948).trips) (k1_t53 : Fin (k1_t53_loop v946 v948 k1_t51).trips), ∀ a, (k1_off711 v946 v948 k1_t51 k1_t53) a + S1x16.size a ≤ S72x256.size a := fun i v946 v948 k1_hw6 k1_t51 k1_t53 => k1_hw6.1.2.2.2.2.2.2.2.2.2.2.2.2.2.2.2.2.2.2.2.2.2.2.2.2.2.2.2.1 k1_t51 k1_t53
theorem k1_off712_inb : ∀ (i : grid1.Coords) (v946 : BitVec 32) (v948 : BitVec 32) (k1_hw6 : k1_chk6 i v946 v948) (k1_t51 : Fin (k1_t51_loop v946 v948).trips) (k1_t53 : Fin (k1_t53_loop v946 v948 k1_t51).trips), ∀ a, (k1_off712 v946 v948 k1_t51 k1_t53) a + S1x16.size a ≤ S72x256.size a := fun i v946 v948 k1_hw6 k1_t51 k1_t53 => k1_hw6.1.2.2.2.2.2.2.2.2.2.2.2.2.2.2.2.2.2.2.2.2.2.2.2.2.2.2.2.2.1 k1_t51 k1_t53
theorem k1_off713_inb : ∀ (i : grid1.Coords) (v946 : BitVec 32) (v948 : BitVec 32) (k1_hw6 : k1_chk6 i v946 v948) (k1_t51 : Fin (k1_t51_loop v946 v948).trips) (k1_t53 : Fin (k1_t53_loop v946 v948 k1_t51).trips), ∀ a, (k1_off713 v946 v948 k1_t51 k1_t53) a + S1x16.size a ≤ S72x256.size a := fun i v946 v948 k1_hw6 k1_t51 k1_t53 => k1_hw6.1.2.2.2.2.2.2.2.2.2.2.2.2.2.2.2.2.2.2.2.2.2.2.2.2.2.2.2.2.2.1 k1_t51 k1_t53
theorem k1_off714_inb : ∀ (i : grid1.Coords) (v946 : BitVec 32) (v948 : BitVec 32) (k1_hw6 : k1_chk6 i v946 v948) (k1_t51 : Fin (k1_t51_loop v946 v948).trips) (k1_t53 : Fin (k1_t53_loop v946 v948 k1_t51).trips), ∀ a, (k1_off714 v946 v948 k1_t51 k1_t53) a + S1x16.size a ≤ S72x256.size a := fun i v946 v948 k1_hw6 k1_t51 k1_t53 => k1_hw6.1.2.2.2.2.2.2.2.2.2.2.2.2.2.2.2.2.2.2.2.2.2.2.2.2.2.2.2.2.2.2.1 k1_t51 k1_t53
theorem k1_off715_inb : ∀ (i : grid1.Coords) (v946 : BitVec 32) (v948 : BitVec 32) (k1_hw6 : k1_chk6 i v946 v948) (k1_t51 : Fin (k1_t51_loop v946 v948).trips) (k1_t53 : Fin (k1_t53_loop v946 v948 k1_t51).trips), ∀ a, (k1_off715 v946 v948 k1_t51 k1_t53) a + S1x16.size a ≤ S72x256.size a := fun i v946 v948 k1_hw6 k1_t51 k1_t53 => k1_hw6.1.2.2.2.2.2.2.2.2.2.2.2.2.2.2.2.2.2.2.2.2.2.2.2.2.2.2.2.2.2.2.2 k1_t51 k1_t53
theorem k1_off716_inb : ∀ (i : grid1.Coords) (v946 : BitVec 32) (v948 : BitVec 32) (k1_hw6 : k1_chk6 i v946 v948) (k1_t51 : Fin (k1_t51_loop v946 v948).trips) (k1_t53 : Fin (k1_t53_loop v946 v948 k1_t51).trips), ∀ a, (k1_off716 v946 v948 k1_t51 k1_t53) a + S1x16.size a ≤ S72x256.size a := fun i v946 v948 k1_hw6 k1_t51 k1_t53 => k1_hw6.2.1.1 k1_t51 k1_t53
theorem k1_off717_inb : ∀ (i : grid1.Coords) (v946 : BitVec 32) (v948 : BitVec 32) (k1_hw6 : k1_chk6 i v946 v948) (k1_t51 : Fin (k1_t51_loop v946 v948).trips) (k1_t53 : Fin (k1_t53_loop v946 v948 k1_t51).trips), ∀ a, (k1_off717 v946 v948 k1_t51 k1_t53) a + S1x16.size a ≤ S72x256.size a := fun i v946 v948 k1_hw6 k1_t51 k1_t53 => k1_hw6.2.1.2.1 k1_t51 k1_t53
theorem k1_off718_inb : ∀ (i : grid1.Coords) (v946 : BitVec 32) (v948 : BitVec 32) (k1_hw6 : k1_chk6 i v946 v948) (k1_t51 : Fin (k1_t51_loop v946 v948).trips) (k1_t53 : Fin (k1_t53_loop v946 v948 k1_t51).trips), ∀ a, (k1_off718 v946 v948 k1_t51 k1_t53) a + S1x16.size a ≤ S72x256.size a := fun i v946 v948 k1_hw6 k1_t51 k1_t53 => k1_hw6.2.1.2.2.1 k1_t51 k1_t53
theorem k1_off719_inb : ∀ (i : grid1.Coords) (v946 : BitVec 32) (v948 : BitVec 32) (k1_hw6 : k1_chk6 i v946 v948) (k1_t51 : Fin (k1_t51_loop v946 v948).trips) (k1_t53 : Fin (k1_t53_loop v946 v948 k1_t51).trips), ∀ a, (k1_off719 v946 v948 k1_t51 k1_t53) a + S1x16.size a ≤ S72x256.size a := fun i v946 v948 k1_hw6 k1_t51 k1_t53 => k1_hw6.2.1.2.2.2.1 k1_t51 k1_t53
theorem k1_off720_inb : ∀ (i : grid1.Coords) (v946 : BitVec 32) (v948 : BitVec 32) (k1_hw6 : k1_chk6 i v946 v948) (k1_t51 : Fin (k1_t51_loop v946 v948).trips) (k1_t53 : Fin (k1_t53_loop v946 v948 k1_t51).trips), ∀ a, (k1_off720 v946 v948 k1_t51 k1_t53) a + S1x16.size a ≤ S72x256.size a := fun i v946 v948 k1_hw6 k1_t51 k1_t53 => k1_hw6.2.1.2.2.2.2.1 k1_t51 k1_t53
theorem k1_off721_inb : ∀ (i : grid1.Coords) (v946 : BitVec 32) (v948 : BitVec 32) (k1_hw6 : k1_chk6 i v946 v948) (k1_t51 : Fin (k1_t51_loop v946 v948).trips) (k1_t53 : Fin (k1_t53_loop v946 v948 k1_t51).trips), ∀ a, (k1_off721 v946 v948 k1_t51 k1_t53) a + S1x16.size a ≤ S72x256.size a := fun i v946 v948 k1_hw6 k1_t51 k1_t53 => k1_hw6.2.1.2.2.2.2.2.1 k1_t51 k1_t53
theorem k1_off722_inb : ∀ (i : grid1.Coords) (v946 : BitVec 32) (v948 : BitVec 32) (k1_hw6 : k1_chk6 i v946 v948) (k1_t51 : Fin (k1_t51_loop v946 v948).trips), ∀ (k1_h49 : k1_cond49 v946 v948 k1_t51 = 1#1), ∀ a, (k1_off722 i v946 v948 k1_t51) a + S72x256.size a ≤ S100000x512.size a := fun i v946 v948 k1_hw6 k1_t51 k1_h49 => k1_hw6.2.1.2.2.2.2.2.2.1 k1_t51 k1_h49
theorem k1_off723_inb : ∀ (i : grid1.Coords) (v946 : BitVec 32) (v948 : BitVec 32) (k1_hw6 : k1_chk6 i v946 v948) (k1_t51 : Fin (k1_t51_loop v946 v948).trips), ∀ (k1_h49 : k1_cond49 v946 v948 k1_t51 = 1#1), ∀ (k1_h50 : k1_cond50 v946 v948 k1_t51 = 1#1), ∀ a, (k1_off723 i v946 v948 k1_t51) a + S72x256.size a ≤ S100000x512.size a := fun i v946 v948 k1_hw6 k1_t51 k1_h49 k1_h50 => k1_hw6.2.1.2.2.2.2.2.2.2.1 k1_t51 k1_h49 k1_h50
theorem k1_t54_ok : ∀ (i : grid1.Coords) (v946 : BitVec 32) (v948 : BitVec 32) (k1_hw6 : k1_chk6 i v946 v948) (k1_t51 : Fin (k1_t51_loop v946 v948).trips), (k1_t54_loop v946 v948 k1_t51).OK := fun i v946 v948 k1_hw6 k1_t51 => k1_hw6.2.1.2.2.2.2.2.2.2.2.1 k1_t51
theorem k1_off724_inb : ∀ (i : grid1.Coords) (v946 : BitVec 32) (v948 : BitVec 32) (k1_hw6 : k1_chk6 i v946 v948) (k1_t51 : Fin (k1_t51_loop v946 v948).trips) (k1_t54 : Fin (k1_t54_loop v946 v948 k1_t51).trips), ∀ a, (k1_off724 v946 v948 k1_t51 k1_t54) a + S1x16.size a ≤ S72x256.size a := fun i v946 v948 k1_hw6 k1_t51 k1_t54 => k1_hw6.2.1.2.2.2.2.2.2.2.2.2.1 k1_t51 k1_t54
theorem k1_off725_inb : ∀ (i : grid1.Coords) (v946 : BitVec 32) (v948 : BitVec 32) (k1_hw6 : k1_chk6 i v946 v948) (k1_t51 : Fin (k1_t51_loop v946 v948).trips) (k1_t54 : Fin (k1_t54_loop v946 v948 k1_t51).trips), ∀ a, (k1_off725 v946 v948 k1_t51 k1_t54) a + S1x16.size a ≤ S72x256.size a := fun i v946 v948 k1_hw6 k1_t51 k1_t54 => k1_hw6.2.1.2.2.2.2.2.2.2.2.2.2.1 k1_t51 k1_t54
theorem k1_off726_inb : ∀ (i : grid1.Coords) (v946 : BitVec 32) (v948 : BitVec 32) (k1_hw6 : k1_chk6 i v946 v948) (k1_t51 : Fin (k1_t51_loop v946 v948).trips) (k1_t54 : Fin (k1_t54_loop v946 v948 k1_t51).trips), ∀ a, (k1_off726 v946 v948 k1_t51 k1_t54) a + S1x16.size a ≤ S72x256.size a := fun i v946 v948 k1_hw6 k1_t51 k1_t54 => k1_hw6.2.1.2.2.2.2.2.2.2.2.2.2.2.1 k1_t51 k1_t54
theorem k1_off727_inb : ∀ (i : grid1.Coords) (v946 : BitVec 32) (v948 : BitVec 32) (k1_hw6 : k1_chk6 i v946 v948) (k1_t51 : Fin (k1_t51_loop v946 v948).trips) (k1_t54 : Fin (k1_t54_loop v946 v948 k1_t51).trips), ∀ a, (k1_off727 v946 v948 k1_t51 k1_t54) a + S1x16.size a ≤ S72x256.size a := fun i v946 v948 k1_hw6 k1_t51 k1_t54 => k1_hw6.2.1.2.2.2.2.2.2.2.2.2.2.2.2.1 k1_t51 k1_t54
theorem k1_off728_inb : ∀ (i : grid1.Coords) (v946 : BitVec 32) (v948 : BitVec 32) (k1_hw6 : k1_chk6 i v946 v948) (k1_t51 : Fin (k1_t51_loop v946 v948).trips) (k1_t54 : Fin (k1_t54_loop v946 v948 k1_t51).trips), ∀ a, (k1_off728 v946 v948 k1_t51 k1_t54) a + S1x16.size a ≤ S72x256.size a := fun i v946 v948 k1_hw6 k1_t51 k1_t54 => k1_hw6.2.1.2.2.2.2.2.2.2.2.2.2.2.2.2.1 k1_t51 k1_t54
theorem k1_off729_inb : ∀ (i : grid1.Coords) (v946 : BitVec 32) (v948 : BitVec 32) (k1_hw6 : k1_chk6 i v946 v948) (k1_t51 : Fin (k1_t51_loop v946 v948).trips) (k1_t54 : Fin (k1_t54_loop v946 v948 k1_t51).trips), ∀ a, (k1_off729 v946 v948 k1_t51 k1_t54) a + S1x16.size a ≤ S72x256.size a := fun i v946 v948 k1_hw6 k1_t51 k1_t54 => k1_hw6.2.1.2.2.2.2.2.2.2.2.2.2.2.2.2.2.1 k1_t51 k1_t54
theorem k1_off730_inb : ∀ (i : grid1.Coords) (v946 : BitVec 32) (v948 : BitVec 32) (k1_hw6 : k1_chk6 i v946 v948) (k1_t51 : Fin (k1_t51_loop v946 v948).trips) (k1_t54 : Fin (k1_t54_loop v946 v948 k1_t51).trips), ∀ a, (k1_off730 v946 v948 k1_t51 k1_t54) a + S1x16.size a ≤ S72x256.size a := fun i v946 v948 k1_hw6 k1_t51 k1_t54 => k1_hw6.2.1.2.2.2.2.2.2.2.2.2.2.2.2.2.2.2.1 k1_t51 k1_t54
theorem k1_off731_inb : ∀ (i : grid1.Coords) (v946 : BitVec 32) (v948 : BitVec 32) (k1_hw6 : k1_chk6 i v946 v948) (k1_t51 : Fin (k1_t51_loop v946 v948).trips) (k1_t54 : Fin (k1_t54_loop v946 v948 k1_t51).trips), ∀ a, (k1_off731 v946 v948 k1_t51 k1_t54) a + S1x16.size a ≤ S72x256.size a := fun i v946 v948 k1_hw6 k1_t51 k1_t54 => k1_hw6.2.1.2.2.2.2.2.2.2.2.2.2.2.2.2.2.2.2.1 k1_t51 k1_t54
theorem k1_off732_inb : ∀ (i : grid1.Coords) (v946 : BitVec 32) (v948 : BitVec 32) (k1_hw6 : k1_chk6 i v946 v948) (k1_t51 : Fin (k1_t51_loop v946 v948).trips) (k1_t54 : Fin (k1_t54_loop v946 v948 k1_t51).trips), ∀ a, (k1_off732 v946 v948 k1_t51 k1_t54) a + S1x16.size a ≤ S72x256.size a := fun i v946 v948 k1_hw6 k1_t51 k1_t54 => k1_hw6.2.1.2.2.2.2.2.2.2.2.2.2.2.2.2.2.2.2.2.1 k1_t51 k1_t54
theorem k1_off733_inb : ∀ (i : grid1.Coords) (v946 : BitVec 32) (v948 : BitVec 32) (k1_hw6 : k1_chk6 i v946 v948) (k1_t51 : Fin (k1_t51_loop v946 v948).trips) (k1_t54 : Fin (k1_t54_loop v946 v948 k1_t51).trips), ∀ a, (k1_off733 v946 v948 k1_t51 k1_t54) a + S1x16.size a ≤ S72x256.size a := fun i v946 v948 k1_hw6 k1_t51 k1_t54 => k1_hw6.2.1.2.2.2.2.2.2.2.2.2.2.2.2.2.2.2.2.2.2.1 k1_t51 k1_t54
theorem k1_off734_inb : ∀ (i : grid1.Coords) (v946 : BitVec 32) (v948 : BitVec 32) (k1_hw6 : k1_chk6 i v946 v948) (k1_t51 : Fin (k1_t51_loop v946 v948).trips) (k1_t54 : Fin (k1_t54_loop v946 v948 k1_t51).trips), ∀ a, (k1_off734 v946 v948 k1_t51 k1_t54) a + S1x16.size a ≤ S72x256.size a := fun i v946 v948 k1_hw6 k1_t51 k1_t54 => k1_hw6.2.1.2.2.2.2.2.2.2.2.2.2.2.2.2.2.2.2.2.2.2.1 k1_t51 k1_t54
theorem k1_off735_inb : ∀ (i : grid1.Coords) (v946 : BitVec 32) (v948 : BitVec 32) (k1_hw6 : k1_chk6 i v946 v948) (k1_t51 : Fin (k1_t51_loop v946 v948).trips) (k1_t54 : Fin (k1_t54_loop v946 v948 k1_t51).trips), ∀ a, (k1_off735 v946 v948 k1_t51 k1_t54) a + S1x16.size a ≤ S72x256.size a := fun i v946 v948 k1_hw6 k1_t51 k1_t54 => k1_hw6.2.1.2.2.2.2.2.2.2.2.2.2.2.2.2.2.2.2.2.2.2.2.1 k1_t51 k1_t54
theorem k1_off736_inb : ∀ (i : grid1.Coords) (v946 : BitVec 32) (v948 : BitVec 32) (k1_hw6 : k1_chk6 i v946 v948) (k1_t51 : Fin (k1_t51_loop v946 v948).trips) (k1_t54 : Fin (k1_t54_loop v946 v948 k1_t51).trips), ∀ a, (k1_off736 v946 v948 k1_t51 k1_t54) a + S1x16.size a ≤ S72x256.size a := fun i v946 v948 k1_hw6 k1_t51 k1_t54 => k1_hw6.2.1.2.2.2.2.2.2.2.2.2.2.2.2.2.2.2.2.2.2.2.2.2.1 k1_t51 k1_t54
theorem k1_off737_inb : ∀ (i : grid1.Coords) (v946 : BitVec 32) (v948 : BitVec 32) (k1_hw6 : k1_chk6 i v946 v948) (k1_t51 : Fin (k1_t51_loop v946 v948).trips) (k1_t54 : Fin (k1_t54_loop v946 v948 k1_t51).trips), ∀ a, (k1_off737 v946 v948 k1_t51 k1_t54) a + S1x16.size a ≤ S72x256.size a := fun i v946 v948 k1_hw6 k1_t51 k1_t54 => k1_hw6.2.1.2.2.2.2.2.2.2.2.2.2.2.2.2.2.2.2.2.2.2.2.2.2.1 k1_t51 k1_t54
theorem k1_off738_inb : ∀ (i : grid1.Coords) (v946 : BitVec 32) (v948 : BitVec 32) (k1_hw6 : k1_chk6 i v946 v948) (k1_t51 : Fin (k1_t51_loop v946 v948).trips) (k1_t54 : Fin (k1_t54_loop v946 v948 k1_t51).trips), ∀ a, (k1_off738 v946 v948 k1_t51 k1_t54) a + S1x16.size a ≤ S72x256.size a := fun i v946 v948 k1_hw6 k1_t51 k1_t54 => k1_hw6.2.1.2.2.2.2.2.2.2.2.2.2.2.2.2.2.2.2.2.2.2.2.2.2.2.1 k1_t51 k1_t54
theorem k1_off739_inb : ∀ (i : grid1.Coords) (v946 : BitVec 32) (v948 : BitVec 32) (k1_hw6 : k1_chk6 i v946 v948) (k1_t51 : Fin (k1_t51_loop v946 v948).trips) (k1_t54 : Fin (k1_t54_loop v946 v948 k1_t51).trips), ∀ a, (k1_off739 v946 v948 k1_t51 k1_t54) a + S1x16.size a ≤ S72x256.size a := fun i v946 v948 k1_hw6 k1_t51 k1_t54 => k1_hw6.2.1.2.2.2.2.2.2.2.2.2.2.2.2.2.2.2.2.2.2.2.2.2.2.2.2.1 k1_t51 k1_t54
theorem k1_t55_ok : ∀ (i : grid1.Coords) (v946 : BitVec 32) (v948 : BitVec 32) (k1_hw6 : k1_chk6 i v946 v948) (k1_t51 : Fin (k1_t51_loop v946 v948).trips), (k1_t55_loop v946 v948 k1_t51).OK := fun i v946 v948 k1_hw6 k1_t51 => k1_hw6.2.1.2.2.2.2.2.2.2.2.2.2.2.2.2.2.2.2.2.2.2.2.2.2.2.2.2.1 k1_t51
theorem k1_off740_inb : ∀ (i : grid1.Coords) (v946 : BitVec 32) (v948 : BitVec 32) (k1_hw6 : k1_chk6 i v946 v948) (k1_t51 : Fin (k1_t51_loop v946 v948).trips) (k1_t55 : Fin (k1_t55_loop v946 v948 k1_t51).trips), ∀ a, (k1_off740 v946 v948 k1_t51 k1_t55) a + S1x16.size a ≤ S72x256.size a := fun i v946 v948 k1_hw6 k1_t51 k1_t55 => k1_hw6.2.1.2.2.2.2.2.2.2.2.2.2.2.2.2.2.2.2.2.2.2.2.2.2.2.2.2.2.1 k1_t51 k1_t55
theorem k1_off741_inb : ∀ (i : grid1.Coords) (v946 : BitVec 32) (v948 : BitVec 32) (k1_hw6 : k1_chk6 i v946 v948) (k1_t51 : Fin (k1_t51_loop v946 v948).trips) (k1_t55 : Fin (k1_t55_loop v946 v948 k1_t51).trips), ∀ a, (k1_off741 v946 v948 k1_t51 k1_t55) a + S1x16.size a ≤ S72x256.size a := fun i v946 v948 k1_hw6 k1_t51 k1_t55 => k1_hw6.2.1.2.2.2.2.2.2.2.2.2.2.2.2.2.2.2.2.2.2.2.2.2.2.2.2.2.2.2.1 k1_t51 k1_t55
theorem k1_off742_inb : ∀ (i : grid1.Coords) (v946 : BitVec 32) (v948 : BitVec 32) (k1_hw6 : k1_chk6 i v946 v948) (k1_t51 : Fin (k1_t51_loop v946 v948).trips) (k1_t55 : Fin (k1_t55_loop v946 v948 k1_t51).trips), ∀ a, (k1_off742 v946 v948 k1_t51 k1_t55) a + S1x16.size a ≤ S72x256.size a := fun i v946 v948 k1_hw6 k1_t51 k1_t55 => k1_hw6.2.1.2.2.2.2.2.2.2.2.2.2.2.2.2.2.2.2.2.2.2.2.2.2.2.2.2.2.2.2.1 k1_t51 k1_t55
theorem k1_off743_inb : ∀ (i : grid1.Coords) (v946 : BitVec 32) (v948 : BitVec 32) (k1_hw6 : k1_chk6 i v946 v948) (k1_t51 : Fin (k1_t51_loop v946 v948).trips) (k1_t55 : Fin (k1_t55_loop v946 v948 k1_t51).trips), ∀ a, (k1_off743 v946 v948 k1_t51 k1_t55) a + S1x16.size a ≤ S72x256.size a := fun i v946 v948 k1_hw6 k1_t51 k1_t55 => k1_hw6.2.1.2.2.2.2.2.2.2.2.2.2.2.2.2.2.2.2.2.2.2.2.2.2.2.2.2.2.2.2.2.1 k1_t51 k1_t55
theorem k1_off744_inb : ∀ (i : grid1.Coords) (v946 : BitVec 32) (v948 : BitVec 32) (k1_hw6 : k1_chk6 i v946 v948) (k1_t51 : Fin (k1_t51_loop v946 v948).trips) (k1_t55 : Fin (k1_t55_loop v946 v948 k1_t51).trips), ∀ a, (k1_off744 v946 v948 k1_t51 k1_t55) a + S1x16.size a ≤ S72x256.size a := fun i v946 v948 k1_hw6 k1_t51 k1_t55 => k1_hw6.2.1.2.2.2.2.2.2.2.2.2.2.2.2.2.2.2.2.2.2.2.2.2.2.2.2.2.2.2.2.2.2.1 k1_t51 k1_t55
theorem k1_off745_inb : ∀ (i : grid1.Coords) (v946 : BitVec 32) (v948 : BitVec 32) (k1_hw6 : k1_chk6 i v946 v948) (k1_t51 : Fin (k1_t51_loop v946 v948).trips) (k1_t55 : Fin (k1_t55_loop v946 v948 k1_t51).trips), ∀ a, (k1_off745 v946 v948 k1_t51 k1_t55) a + S1x16.size a ≤ S72x256.size a := fun i v946 v948 k1_hw6 k1_t51 k1_t55 => k1_hw6.2.1.2.2.2.2.2.2.2.2.2.2.2.2.2.2.2.2.2.2.2.2.2.2.2.2.2.2.2.2.2.2.2 k1_t51 k1_t55
theorem k1_off746_inb : ∀ (i : grid1.Coords) (v946 : BitVec 32) (v948 : BitVec 32) (k1_hw6 : k1_chk6 i v946 v948) (k1_t51 : Fin (k1_t51_loop v946 v948).trips) (k1_t55 : Fin (k1_t55_loop v946 v948 k1_t51).trips), ∀ a, (k1_off746 v946 v948 k1_t51 k1_t55) a + S1x16.size a ≤ S72x256.size a := fun i v946 v948 k1_hw6 k1_t51 k1_t55 => k1_hw6.2.2.1.1 k1_t51 k1_t55
theorem k1_off747_inb : ∀ (i : grid1.Coords) (v946 : BitVec 32) (v948 : BitVec 32) (k1_hw6 : k1_chk6 i v946 v948) (k1_t51 : Fin (k1_t51_loop v946 v948).trips) (k1_t55 : Fin (k1_t55_loop v946 v948 k1_t51).trips), ∀ a, (k1_off747 v946 v948 k1_t51 k1_t55) a + S1x16.size a ≤ S72x256.size a := fun i v946 v948 k1_hw6 k1_t51 k1_t55 => k1_hw6.2.2.1.2.1 k1_t51 k1_t55
theorem k1_off748_inb : ∀ (i : grid1.Coords) (v946 : BitVec 32) (v948 : BitVec 32) (k1_hw6 : k1_chk6 i v946 v948) (k1_t51 : Fin (k1_t51_loop v946 v948).trips) (k1_t55 : Fin (k1_t55_loop v946 v948 k1_t51).trips), ∀ a, (k1_off748 v946 v948 k1_t51 k1_t55) a + S1x16.size a ≤ S72x256.size a := fun i v946 v948 k1_hw6 k1_t51 k1_t55 => k1_hw6.2.2.1.2.2.1 k1_t51 k1_t55
theorem k1_off749_inb : ∀ (i : grid1.Coords) (v946 : BitVec 32) (v948 : BitVec 32) (k1_hw6 : k1_chk6 i v946 v948) (k1_t51 : Fin (k1_t51_loop v946 v948).trips) (k1_t55 : Fin (k1_t55_loop v946 v948 k1_t51).trips), ∀ a, (k1_off749 v946 v948 k1_t51 k1_t55) a + S1x16.size a ≤ S72x256.size a := fun i v946 v948 k1_hw6 k1_t51 k1_t55 => k1_hw6.2.2.1.2.2.2.1 k1_t51 k1_t55
theorem k1_off750_inb : ∀ (i : grid1.Coords) (v946 : BitVec 32) (v948 : BitVec 32) (k1_hw6 : k1_chk6 i v946 v948) (k1_t51 : Fin (k1_t51_loop v946 v948).trips) (k1_t55 : Fin (k1_t55_loop v946 v948 k1_t51).trips), ∀ a, (k1_off750 v946 v948 k1_t51 k1_t55) a + S1x16.size a ≤ S72x256.size a := fun i v946 v948 k1_hw6 k1_t51 k1_t55 => k1_hw6.2.2.1.2.2.2.2.1 k1_t51 k1_t55
theorem k1_off751_inb : ∀ (i : grid1.Coords) (v946 : BitVec 32) (v948 : BitVec 32) (k1_hw6 : k1_chk6 i v946 v948) (k1_t51 : Fin (k1_t51_loop v946 v948).trips) (k1_t55 : Fin (k1_t55_loop v946 v948 k1_t51).trips), ∀ a, (k1_off751 v946 v948 k1_t51 k1_t55) a + S1x16.size a ≤ S72x256.size a := fun i v946 v948 k1_hw6 k1_t51 k1_t55 => k1_hw6.2.2.1.2.2.2.2.2.1 k1_t51 k1_t55
theorem k1_off752_inb : ∀ (i : grid1.Coords) (v946 : BitVec 32) (v948 : BitVec 32) (k1_hw6 : k1_chk6 i v946 v948) (k1_t51 : Fin (k1_t51_loop v946 v948).trips) (k1_t55 : Fin (k1_t55_loop v946 v948 k1_t51).trips), ∀ a, (k1_off752 v946 v948 k1_t51 k1_t55) a + S1x16.size a ≤ S72x256.size a := fun i v946 v948 k1_hw6 k1_t51 k1_t55 => k1_hw6.2.2.1.2.2.2.2.2.2.1 k1_t51 k1_t55
theorem k1_off753_inb : ∀ (i : grid1.Coords) (v946 : BitVec 32) (v948 : BitVec 32) (k1_hw6 : k1_chk6 i v946 v948) (k1_t51 : Fin (k1_t51_loop v946 v948).trips) (k1_t55 : Fin (k1_t55_loop v946 v948 k1_t51).trips), ∀ a, (k1_off753 v946 v948 k1_t51 k1_t55) a + S1x16.size a ≤ S72x256.size a := fun i v946 v948 k1_hw6 k1_t51 k1_t55 => k1_hw6.2.2.1.2.2.2.2.2.2.2.1 k1_t51 k1_t55
theorem k1_off754_inb : ∀ (i : grid1.Coords) (v946 : BitVec 32) (v948 : BitVec 32) (k1_hw6 : k1_chk6 i v946 v948) (k1_t51 : Fin (k1_t51_loop v946 v948).trips) (k1_t55 : Fin (k1_t55_loop v946 v948 k1_t51).trips), ∀ a, (k1_off754 v946 v948 k1_t51 k1_t55) a + S1x16.size a ≤ S72x256.size a := fun i v946 v948 k1_hw6 k1_t51 k1_t55 => k1_hw6.2.2.1.2.2.2.2.2.2.2.2.1 k1_t51 k1_t55
theorem k1_off755_inb : ∀ (i : grid1.Coords) (v946 : BitVec 32) (v948 : BitVec 32) (k1_hw6 : k1_chk6 i v946 v948) (k1_t51 : Fin (k1_t51_loop v946 v948).trips) (k1_t55 : Fin (k1_t55_loop v946 v948 k1_t51).trips), ∀ a, (k1_off755 v946 v948 k1_t51 k1_t55) a + S1x16.size a ≤ S72x256.size a := fun i v946 v948 k1_hw6 k1_t51 k1_t55 => k1_hw6.2.2.1.2.2.2.2.2.2.2.2.2.1 k1_t51 k1_t55
theorem k1_t56_ok : ∀ (i : grid1.Coords) (v946 : BitVec 32) (v948 : BitVec 32) (k1_hw6 : k1_chk6 i v946 v948), (k1_t56_loop v946 v948).OK := fun i v946 v948 k1_hw6 => k1_hw6.2.2.1.2.2.2.2.2.2.2.2.2.2.1
theorem k1_off756_inb : ∀ (i : grid1.Coords) (v946 : BitVec 32) (v948 : BitVec 32) (k1_hw6 : k1_chk6 i v946 v948) (k1_t56 : Fin (k1_t56_loop v946 v948).trips), ∀ (k1_h51 : k1_cond51 v946 v948 k1_t56 = 1#1), ∀ a, (k1_off756 i v946 v948 k1_t56) a + S72x256.size a ≤ S100000x512.size a := fun i v946 v948 k1_hw6 k1_t56 k1_h51 => k1_hw6.2.2.1.2.2.2.2.2.2.2.2.2.2.2.1 k1_t56 k1_h51
theorem k1_off757_inb : ∀ (i : grid1.Coords) (v946 : BitVec 32) (v948 : BitVec 32) (k1_hw6 : k1_chk6 i v946 v948) (k1_t56 : Fin (k1_t56_loop v946 v948).trips), ∀ (k1_h51 : k1_cond51 v946 v948 k1_t56 = 1#1), ∀ (k1_h52 : k1_cond52 v946 v948 k1_t56 = 1#1), ∀ a, (k1_off757 i v946 v948 k1_t56) a + S72x256.size a ≤ S100000x512.size a := fun i v946 v948 k1_hw6 k1_t56 k1_h51 k1_h52 => k1_hw6.2.2.1.2.2.2.2.2.2.2.2.2.2.2.2.1 k1_t56 k1_h51 k1_h52
theorem k1_t57_ok : ∀ (i : grid1.Coords) (v946 : BitVec 32) (v948 : BitVec 32) (k1_hw6 : k1_chk6 i v946 v948) (k1_t56 : Fin (k1_t56_loop v946 v948).trips), (k1_t57_loop v946 v948 k1_t56).OK := fun i v946 v948 k1_hw6 k1_t56 => k1_hw6.2.2.1.2.2.2.2.2.2.2.2.2.2.2.2.2.1 k1_t56
theorem k1_off758_inb : ∀ (i : grid1.Coords) (v946 : BitVec 32) (v948 : BitVec 32) (k1_hw6 : k1_chk6 i v946 v948) (k1_t56 : Fin (k1_t56_loop v946 v948).trips) (k1_t57 : Fin (k1_t57_loop v946 v948 k1_t56).trips), ∀ a, (k1_off758 v946 v948 k1_t56 k1_t57) a + S1x16.size a ≤ S72x256.size a := fun i v946 v948 k1_hw6 k1_t56 k1_t57 => k1_hw6.2.2.1.2.2.2.2.2.2.2.2.2.2.2.2.2.2.1 k1_t56 k1_t57
theorem k1_off759_inb : ∀ (i : grid1.Coords) (v946 : BitVec 32) (v948 : BitVec 32) (k1_hw6 : k1_chk6 i v946 v948) (k1_t56 : Fin (k1_t56_loop v946 v948).trips) (k1_t57 : Fin (k1_t57_loop v946 v948 k1_t56).trips), ∀ a, (k1_off759 v946 v948 k1_t56 k1_t57) a + S1x16.size a ≤ S72x256.size a := fun i v946 v948 k1_hw6 k1_t56 k1_t57 => k1_hw6.2.2.1.2.2.2.2.2.2.2.2.2.2.2.2.2.2.2.1 k1_t56 k1_t57
theorem k1_off760_inb : ∀ (i : grid1.Coords) (v946 : BitVec 32) (v948 : BitVec 32) (k1_hw6 : k1_chk6 i v946 v948) (k1_t56 : Fin (k1_t56_loop v946 v948).trips) (k1_t57 : Fin (k1_t57_loop v946 v948 k1_t56).trips), ∀ a, (k1_off760 v946 v948 k1_t56 k1_t57) a + S1x16.size a ≤ S72x256.size a := fun i v946 v948 k1_hw6 k1_t56 k1_t57 => k1_hw6.2.2.1.2.2.2.2.2.2.2.2.2.2.2.2.2.2.2.2.1 k1_t56 k1_t57
theorem k1_off761_inb : ∀ (i : grid1.Coords) (v946 : BitVec 32) (v948 : BitVec 32) (k1_hw6 : k1_chk6 i v946 v948) (k1_t56 : Fin (k1_t56_loop v946 v948).trips) (k1_t57 : Fin (k1_t57_loop v946 v948 k1_t56).trips), ∀ a, (k1_off761 v946 v948 k1_t56 k1_t57) a + S1x16.size a ≤ S72x256.size a := fun i v946 v948 k1_hw6 k1_t56 k1_t57 => k1_hw6.2.2.1.2.2.2.2.2.2.2.2.2.2.2.2.2.2.2.2.2.1 k1_t56 k1_t57
theorem k1_off762_inb : ∀ (i : grid1.Coords) (v946 : BitVec 32) (v948 : BitVec 32) (k1_hw6 : k1_chk6 i v946 v948) (k1_t56 : Fin (k1_t56_loop v946 v948).trips) (k1_t57 : Fin (k1_t57_loop v946 v948 k1_t56).trips), ∀ a, (k1_off762 v946 v948 k1_t56 k1_t57) a + S1x16.size a ≤ S72x256.size a := fun i v946 v948 k1_hw6 k1_t56 k1_t57 => k1_hw6.2.2.1.2.2.2.2.2.2.2.2.2.2.2.2.2.2.2.2.2.2.1 k1_t56 k1_t57
theorem k1_off763_inb : ∀ (i : grid1.Coords) (v946 : BitVec 32) (v948 : BitVec 32) (k1_hw6 : k1_chk6 i v946 v948) (k1_t56 : Fin (k1_t56_loop v946 v948).trips) (k1_t57 : Fin (k1_t57_loop v946 v948 k1_t56).trips), ∀ a, (k1_off763 v946 v948 k1_t56 k1_t57) a + S1x16.size a ≤ S72x256.size a := fun i v946 v948 k1_hw6 k1_t56 k1_t57 => k1_hw6.2.2.1.2.2.2.2.2.2.2.2.2.2.2.2.2.2.2.2.2.2.2.1 k1_t56 k1_t57
theorem k1_off764_inb : ∀ (i : grid1.Coords) (v946 : BitVec 32) (v948 : BitVec 32) (k1_hw6 : k1_chk6 i v946 v948) (k1_t56 : Fin (k1_t56_loop v946 v948).trips) (k1_t57 : Fin (k1_t57_loop v946 v948 k1_t56).trips), ∀ a, (k1_off764 v946 v948 k1_t56 k1_t57) a + S1x16.size a ≤ S72x256.size a := fun i v946 v948 k1_hw6 k1_t56 k1_t57 => k1_hw6.2.2.1.2.2.2.2.2.2.2.2.2.2.2.2.2.2.2.2.2.2.2.2.1 k1_t56 k1_t57
theorem k1_off765_inb : ∀ (i : grid1.Coords) (v946 : BitVec 32) (v948 : BitVec 32) (k1_hw6 : k1_chk6 i v946 v948) (k1_t56 : Fin (k1_t56_loop v946 v948).trips) (k1_t57 : Fin (k1_t57_loop v946 v948 k1_t56).trips), ∀ a, (k1_off765 v946 v948 k1_t56 k1_t57) a + S1x16.size a ≤ S72x256.size a := fun i v946 v948 k1_hw6 k1_t56 k1_t57 => k1_hw6.2.2.1.2.2.2.2.2.2.2.2.2.2.2.2.2.2.2.2.2.2.2.2.2.1 k1_t56 k1_t57
theorem k1_off766_inb : ∀ (i : grid1.Coords) (v946 : BitVec 32) (v948 : BitVec 32) (k1_hw6 : k1_chk6 i v946 v948) (k1_t56 : Fin (k1_t56_loop v946 v948).trips) (k1_t57 : Fin (k1_t57_loop v946 v948 k1_t56).trips), ∀ a, (k1_off766 v946 v948 k1_t56 k1_t57) a + S1x16.size a ≤ S72x256.size a := fun i v946 v948 k1_hw6 k1_t56 k1_t57 => k1_hw6.2.2.1.2.2.2.2.2.2.2.2.2.2.2.2.2.2.2.2.2.2.2.2.2.2.1 k1_t56 k1_t57
theorem k1_off767_inb : ∀ (i : grid1.Coords) (v946 : BitVec 32) (v948 : BitVec 32) (k1_hw6 : k1_chk6 i v946 v948) (k1_t56 : Fin (k1_t56_loop v946 v948).trips) (k1_t57 : Fin (k1_t57_loop v946 v948 k1_t56).trips), ∀ a, (k1_off767 v946 v948 k1_t56 k1_t57) a + S1x16.size a ≤ S72x256.size a := fun i v946 v948 k1_hw6 k1_t56 k1_t57 => k1_hw6.2.2.1.2.2.2.2.2.2.2.2.2.2.2.2.2.2.2.2.2.2.2.2.2.2.2.1 k1_t56 k1_t57
theorem k1_off768_inb : ∀ (i : grid1.Coords) (v946 : BitVec 32) (v948 : BitVec 32) (k1_hw6 : k1_chk6 i v946 v948) (k1_t56 : Fin (k1_t56_loop v946 v948).trips) (k1_t57 : Fin (k1_t57_loop v946 v948 k1_t56).trips), ∀ a, (k1_off768 v946 v948 k1_t56 k1_t57) a + S1x16.size a ≤ S72x256.size a := fun i v946 v948 k1_hw6 k1_t56 k1_t57 => k1_hw6.2.2.1.2.2.2.2.2.2.2.2.2.2.2.2.2.2.2.2.2.2.2.2.2.2.2.2.1 k1_t56 k1_t57
theorem k1_off769_inb : ∀ (i : grid1.Coords) (v946 : BitVec 32) (v948 : BitVec 32) (k1_hw6 : k1_chk6 i v946 v948) (k1_t56 : Fin (k1_t56_loop v946 v948).trips) (k1_t57 : Fin (k1_t57_loop v946 v948 k1_t56).trips), ∀ a, (k1_off769 v946 v948 k1_t56 k1_t57) a + S1x16.size a ≤ S72x256.size a := fun i v946 v948 k1_hw6 k1_t56 k1_t57 => k1_hw6.2.2.1.2.2.2.2.2.2.2.2.2.2.2.2.2.2.2.2.2.2.2.2.2.2.2.2.2.1 k1_t56 k1_t57
theorem k1_off770_inb : ∀ (i : grid1.Coords) (v946 : BitVec 32) (v948 : BitVec 32) (k1_hw6 : k1_chk6 i v946 v948) (k1_t56 : Fin (k1_t56_loop v946 v948).trips) (k1_t57 : Fin (k1_t57_loop v946 v948 k1_t56).trips), ∀ a, (k1_off770 v946 v948 k1_t56 k1_t57) a + S1x16.size a ≤ S72x256.size a := fun i v946 v948 k1_hw6 k1_t56 k1_t57 => k1_hw6.2.2.1.2.2.2.2.2.2.2.2.2.2.2.2.2.2.2.2.2.2.2.2.2.2.2.2.2.2.1 k1_t56 k1_t57
theorem k1_off771_inb : ∀ (i : grid1.Coords) (v946 : BitVec 32) (v948 : BitVec 32) (k1_hw6 : k1_chk6 i v946 v948) (k1_t56 : Fin (k1_t56_loop v946 v948).trips) (k1_t57 : Fin (k1_t57_loop v946 v948 k1_t56).trips), ∀ a, (k1_off771 v946 v948 k1_t56 k1_t57) a + S1x16.size a ≤ S72x256.size a := fun i v946 v948 k1_hw6 k1_t56 k1_t57 => k1_hw6.2.2.1.2.2.2.2.2.2.2.2.2.2.2.2.2.2.2.2.2.2.2.2.2.2.2.2.2.2.2.1 k1_t56 k1_t57
theorem k1_off772_inb : ∀ (i : grid1.Coords) (v946 : BitVec 32) (v948 : BitVec 32) (k1_hw6 : k1_chk6 i v946 v948) (k1_t56 : Fin (k1_t56_loop v946 v948).trips) (k1_t57 : Fin (k1_t57_loop v946 v948 k1_t56).trips), ∀ a, (k1_off772 v946 v948 k1_t56 k1_t57) a + S1x16.size a ≤ S72x256.size a := fun i v946 v948 k1_hw6 k1_t56 k1_t57 => k1_hw6.2.2.1.2.2.2.2.2.2.2.2.2.2.2.2.2.2.2.2.2.2.2.2.2.2.2.2.2.2.2.2.1 k1_t56 k1_t57
theorem k1_off773_inb : ∀ (i : grid1.Coords) (v946 : BitVec 32) (v948 : BitVec 32) (k1_hw6 : k1_chk6 i v946 v948) (k1_t56 : Fin (k1_t56_loop v946 v948).trips) (k1_t57 : Fin (k1_t57_loop v946 v948 k1_t56).trips), ∀ a, (k1_off773 v946 v948 k1_t56 k1_t57) a + S1x16.size a ≤ S72x256.size a := fun i v946 v948 k1_hw6 k1_t56 k1_t57 => k1_hw6.2.2.1.2.2.2.2.2.2.2.2.2.2.2.2.2.2.2.2.2.2.2.2.2.2.2.2.2.2.2.2.2.1 k1_t56 k1_t57
theorem k1_t58_ok : ∀ (i : grid1.Coords) (v946 : BitVec 32) (v948 : BitVec 32) (k1_hw6 : k1_chk6 i v946 v948) (k1_t56 : Fin (k1_t56_loop v946 v948).trips), (k1_t58_loop v946 v948 k1_t56).OK := fun i v946 v948 k1_hw6 k1_t56 => k1_hw6.2.2.1.2.2.2.2.2.2.2.2.2.2.2.2.2.2.2.2.2.2.2.2.2.2.2.2.2.2.2.2.2.2.1 k1_t56
theorem k1_off774_inb : ∀ (i : grid1.Coords) (v946 : BitVec 32) (v948 : BitVec 32) (k1_hw6 : k1_chk6 i v946 v948) (k1_t56 : Fin (k1_t56_loop v946 v948).trips) (k1_t58 : Fin (k1_t58_loop v946 v948 k1_t56).trips), ∀ a, (k1_off774 v946 v948 k1_t56 k1_t58) a + S1x16.size a ≤ S72x256.size a := fun i v946 v948 k1_hw6 k1_t56 k1_t58 => k1_hw6.2.2.1.2.2.2.2.2.2.2.2.2.2.2.2.2.2.2.2.2.2.2.2.2.2.2.2.2.2.2.2.2.2.2 k1_t56 k1_t58
theorem k1_off775_inb : ∀ (i : grid1.Coords) (v946 : BitVec 32) (v948 : BitVec 32) (k1_hw6 : k1_chk6 i v946 v948) (k1_t56 : Fin (k1_t56_loop v946 v948).trips) (k1_t58 : Fin (k1_t58_loop v946 v948 k1_t56).trips), ∀ a, (k1_off775 v946 v948 k1_t56 k1_t58) a + S1x16.size a ≤ S72x256.size a := fun i v946 v948 k1_hw6 k1_t56 k1_t58 => k1_hw6.2.2.2.1.1 k1_t56 k1_t58
theorem k1_off776_inb : ∀ (i : grid1.Coords) (v946 : BitVec 32) (v948 : BitVec 32) (k1_hw6 : k1_chk6 i v946 v948) (k1_t56 : Fin (k1_t56_loop v946 v948).trips) (k1_t58 : Fin (k1_t58_loop v946 v948 k1_t56).trips), ∀ a, (k1_off776 v946 v948 k1_t56 k1_t58) a + S1x16.size a ≤ S72x256.size a := fun i v946 v948 k1_hw6 k1_t56 k1_t58 => k1_hw6.2.2.2.1.2.1 k1_t56 k1_t58
theorem k1_off777_inb : ∀ (i : grid1.Coords) (v946 : BitVec 32) (v948 : BitVec 32) (k1_hw6 : k1_chk6 i v946 v948) (k1_t56 : Fin (k1_t56_loop v946 v948).trips) (k1_t58 : Fin (k1_t58_loop v946 v948 k1_t56).trips), ∀ a, (k1_off777 v946 v948 k1_t56 k1_t58) a + S1x16.size a ≤ S72x256.size a := fun i v946 v948 k1_hw6 k1_t56 k1_t58 => k1_hw6.2.2.2.1.2.2.1 k1_t56 k1_t58
theorem k1_off778_inb : ∀ (i : grid1.Coords) (v946 : BitVec 32) (v948 : BitVec 32) (k1_hw6 : k1_chk6 i v946 v948) (k1_t56 : Fin (k1_t56_loop v946 v948).trips) (k1_t58 : Fin (k1_t58_loop v946 v948 k1_t56).trips), ∀ a, (k1_off778 v946 v948 k1_t56 k1_t58) a + S1x16.size a ≤ S72x256.size a := fun i v946 v948 k1_hw6 k1_t56 k1_t58 => k1_hw6.2.2.2.1.2.2.2.1 k1_t56 k1_t58
theorem k1_off779_inb : ∀ (i : grid1.Coords) (v946 : BitVec 32) (v948 : BitVec 32) (k1_hw6 : k1_chk6 i v946 v948) (k1_t56 : Fin (k1_t56_loop v946 v948).trips) (k1_t58 : Fin (k1_t58_loop v946 v948 k1_t56).trips), ∀ a, (k1_off779 v946 v948 k1_t56 k1_t58) a + S1x16.size a ≤ S72x256.size a := fun i v946 v948 k1_hw6 k1_t56 k1_t58 => k1_hw6.2.2.2.1.2.2.2.2.1 k1_t56 k1_t58
theorem k1_off780_inb : ∀ (i : grid1.Coords) (v946 : BitVec 32) (v948 : BitVec 32) (k1_hw6 : k1_chk6 i v946 v948) (k1_t56 : Fin (k1_t56_loop v946 v948).trips) (k1_t58 : Fin (k1_t58_loop v946 v948 k1_t56).trips), ∀ a, (k1_off780 v946 v948 k1_t56 k1_t58) a + S1x16.size a ≤ S72x256.size a := fun i v946 v948 k1_hw6 k1_t56 k1_t58 => k1_hw6.2.2.2.1.2.2.2.2.2.1 k1_t56 k1_t58
theorem k1_off781_inb : ∀ (i : grid1.Coords) (v946 : BitVec 32) (v948 : BitVec 32) (k1_hw6 : k1_chk6 i v946 v948) (k1_t56 : Fin (k1_t56_loop v946 v948).trips) (k1_t58 : Fin (k1_t58_loop v946 v948 k1_t56).trips), ∀ a, (k1_off781 v946 v948 k1_t56 k1_t58) a + S1x16.size a ≤ S72x256.size a := fun i v946 v948 k1_hw6 k1_t56 k1_t58 => k1_hw6.2.2.2.1.2.2.2.2.2.2.1 k1_t56 k1_t58
theorem k1_off782_inb : ∀ (i : grid1.Coords) (v946 : BitVec 32) (v948 : BitVec 32) (k1_hw6 : k1_chk6 i v946 v948) (k1_t56 : Fin (k1_t56_loop v946 v948).trips) (k1_t58 : Fin (k1_t58_loop v946 v948 k1_t56).trips), ∀ a, (k1_off782 v946 v948 k1_t56 k1_t58) a + S1x16.size a ≤ S72x256.size a := fun i v946 v948 k1_hw6 k1_t56 k1_t58 => k1_hw6.2.2.2.1.2.2.2.2.2.2.2.1 k1_t56 k1_t58
theorem k1_off783_inb : ∀ (i : grid1.Coords) (v946 : BitVec 32) (v948 : BitVec 32) (k1_hw6 : k1_chk6 i v946 v948) (k1_t56 : Fin (k1_t56_loop v946 v948).trips) (k1_t58 : Fin (k1_t58_loop v946 v948 k1_t56).trips), ∀ a, (k1_off783 v946 v948 k1_t56 k1_t58) a + S1x16.size a ≤ S72x256.size a := fun i v946 v948 k1_hw6 k1_t56 k1_t58 => k1_hw6.2.2.2.1.2.2.2.2.2.2.2.2.1 k1_t56 k1_t58
theorem k1_off784_inb : ∀ (i : grid1.Coords) (v946 : BitVec 32) (v948 : BitVec 32) (k1_hw6 : k1_chk6 i v946 v948) (k1_t56 : Fin (k1_t56_loop v946 v948).trips) (k1_t58 : Fin (k1_t58_loop v946 v948 k1_t56).trips), ∀ a, (k1_off784 v946 v948 k1_t56 k1_t58) a + S1x16.size a ≤ S72x256.size a := fun i v946 v948 k1_hw6 k1_t56 k1_t58 => k1_hw6.2.2.2.1.2.2.2.2.2.2.2.2.2.1 k1_t56 k1_t58
theorem k1_off785_inb : ∀ (i : grid1.Coords) (v946 : BitVec 32) (v948 : BitVec 32) (k1_hw6 : k1_chk6 i v946 v948) (k1_t56 : Fin (k1_t56_loop v946 v948).trips) (k1_t58 : Fin (k1_t58_loop v946 v948 k1_t56).trips), ∀ a, (k1_off785 v946 v948 k1_t56 k1_t58) a + S1x16.size a ≤ S72x256.size a := fun i v946 v948 k1_hw6 k1_t56 k1_t58 => k1_hw6.2.2.2.1.2.2.2.2.2.2.2.2.2.2.1 k1_t56 k1_t58
theorem k1_off786_inb : ∀ (i : grid1.Coords) (v946 : BitVec 32) (v948 : BitVec 32) (k1_hw6 : k1_chk6 i v946 v948) (k1_t56 : Fin (k1_t56_loop v946 v948).trips) (k1_t58 : Fin (k1_t58_loop v946 v948 k1_t56).trips), ∀ a, (k1_off786 v946 v948 k1_t56 k1_t58) a + S1x16.size a ≤ S72x256.size a := fun i v946 v948 k1_hw6 k1_t56 k1_t58 => k1_hw6.2.2.2.1.2.2.2.2.2.2.2.2.2.2.2.1 k1_t56 k1_t58
theorem k1_off787_inb : ∀ (i : grid1.Coords) (v946 : BitVec 32) (v948 : BitVec 32) (k1_hw6 : k1_chk6 i v946 v948) (k1_t56 : Fin (k1_t56_loop v946 v948).trips) (k1_t58 : Fin (k1_t58_loop v946 v948 k1_t56).trips), ∀ a, (k1_off787 v946 v948 k1_t56 k1_t58) a + S1x16.size a ≤ S72x256.size a := fun i v946 v948 k1_hw6 k1_t56 k1_t58 => k1_hw6.2.2.2.1.2.2.2.2.2.2.2.2.2.2.2.2.1 k1_t56 k1_t58
theorem k1_off788_inb : ∀ (i : grid1.Coords) (v946 : BitVec 32) (v948 : BitVec 32) (k1_hw6 : k1_chk6 i v946 v948) (k1_t56 : Fin (k1_t56_loop v946 v948).trips) (k1_t58 : Fin (k1_t58_loop v946 v948 k1_t56).trips), ∀ a, (k1_off788 v946 v948 k1_t56 k1_t58) a + S1x16.size a ≤ S72x256.size a := fun i v946 v948 k1_hw6 k1_t56 k1_t58 => k1_hw6.2.2.2.1.2.2.2.2.2.2.2.2.2.2.2.2.2.1 k1_t56 k1_t58
theorem k1_off789_inb : ∀ (i : grid1.Coords) (v946 : BitVec 32) (v948 : BitVec 32) (k1_hw6 : k1_chk6 i v946 v948) (k1_t56 : Fin (k1_t56_loop v946 v948).trips) (k1_t58 : Fin (k1_t58_loop v946 v948 k1_t56).trips), ∀ a, (k1_off789 v946 v948 k1_t56 k1_t58) a + S1x16.size a ≤ S72x256.size a := fun i v946 v948 k1_hw6 k1_t56 k1_t58 => k1_hw6.2.2.2.1.2.2.2.2.2.2.2.2.2.2.2.2.2.2.1 k1_t56 k1_t58
theorem k1_off790_inb : ∀ (i : grid1.Coords) (v946 : BitVec 32) (v948 : BitVec 32) (k1_hw6 : k1_chk6 i v946 v948) (k1_t56 : Fin (k1_t56_loop v946 v948).trips), ∀ (k1_h53 : k1_cond53 v946 v948 k1_t56 = 1#1), ∀ a, (k1_off790 i v946 v948 k1_t56) a + S72x256.size a ≤ S100000x512.size a := fun i v946 v948 k1_hw6 k1_t56 k1_h53 => k1_hw6.2.2.2.1.2.2.2.2.2.2.2.2.2.2.2.2.2.2.2.1 k1_t56 k1_h53
theorem k1_off791_inb : ∀ (i : grid1.Coords) (v946 : BitVec 32) (v948 : BitVec 32) (k1_hw6 : k1_chk6 i v946 v948) (k1_t56 : Fin (k1_t56_loop v946 v948).trips), ∀ (k1_h53 : k1_cond53 v946 v948 k1_t56 = 1#1), ∀ (k1_h54 : k1_cond54 v946 v948 k1_t56 = 1#1), ∀ a, (k1_off791 i v946 v948 k1_t56) a + S72x256.size a ≤ S100000x512.size a := fun i v946 v948 k1_hw6 k1_t56 k1_h53 k1_h54 => k1_hw6.2.2.2.1.2.2.2.2.2.2.2.2.2.2.2.2.2.2.2.2.1 k1_t56 k1_h53 k1_h54
theorem k1_t59_ok : ∀ (i : grid1.Coords) (v946 : BitVec 32) (v948 : BitVec 32) (k1_hw6 : k1_chk6 i v946 v948) (k1_t56 : Fin (k1_t56_loop v946 v948).trips), (k1_t59_loop v946 v948 k1_t56).OK := fun i v946 v948 k1_hw6 k1_t56 => k1_hw6.2.2.2.1.2.2.2.2.2.2.2.2.2.2.2.2.2.2.2.2.2.1 k1_t56
theorem k1_off792_inb : ∀ (i : grid1.Coords) (v946 : BitVec 32) (v948 : BitVec 32) (k1_hw6 : k1_chk6 i v946 v948) (k1_t56 : Fin (k1_t56_loop v946 v948).trips) (k1_t59 : Fin (k1_t59_loop v946 v948 k1_t56).trips), ∀ a, (k1_off792 v946 v948 k1_t56 k1_t59) a + S1x16.size a ≤ S72x256.size a := fun i v946 v948 k1_hw6 k1_t56 k1_t59 => k1_hw6.2.2.2.1.2.2.2.2.2.2.2.2.2.2.2.2.2.2.2.2.2.2.1 k1_t56 k1_t59
theorem k1_off793_inb : ∀ (i : grid1.Coords) (v946 : BitVec 32) (v948 : BitVec 32) (k1_hw6 : k1_chk6 i v946 v948) (k1_t56 : Fin (k1_t56_loop v946 v948).trips) (k1_t59 : Fin (k1_t59_loop v946 v948 k1_t56).trips), ∀ a, (k1_off793 v946 v948 k1_t56 k1_t59) a + S1x16.size a ≤ S72x256.size a := fun i v946 v948 k1_hw6 k1_t56 k1_t59 => k1_hw6.2.2.2.1.2.2.2.2.2.2.2.2.2.2.2.2.2.2.2.2.2.2.2.1 k1_t56 k1_t59
theorem k1_off794_inb : ∀ (i : grid1.Coords) (v946 : BitVec 32) (v948 : BitVec 32) (k1_hw6 : k1_chk6 i v946 v948) (k1_t56 : Fin (k1_t56_loop v946 v948).trips) (k1_t59 : Fin (k1_t59_loop v946 v948 k1_t56).trips), ∀ a, (k1_off794 v946 v948 k1_t56 k1_t59) a + S1x16.size a ≤ S72x256.size a := fun i v946 v948 k1_hw6 k1_t56 k1_t59 => k1_hw6.2.2.2.1.2.2.2.2.2.2.2.2.2.2.2.2.2.2.2.2.2.2.2.2.1 k1_t56 k1_t59
theorem k1_off795_inb : ∀ (i : grid1.Coords) (v946 : BitVec 32) (v948 : BitVec 32) (k1_hw6 : k1_chk6 i v946 v948) (k1_t56 : Fin (k1_t56_loop v946 v948).trips) (k1_t59 : Fin (k1_t59_loop v946 v948 k1_t56).trips), ∀ a, (k1_off795 v946 v948 k1_t56 k1_t59) a + S1x16.size a ≤ S72x256.size a := fun i v946 v948 k1_hw6 k1_t56 k1_t59 => k1_hw6.2.2.2.1.2.2.2.2.2.2.2.2.2.2.2.2.2.2.2.2.2.2.2.2.2.1 k1_t56 k1_t59
theorem k1_off796_inb : ∀ (i : grid1.Coords) (v946 : BitVec 32) (v948 : BitVec 32) (k1_hw6 : k1_chk6 i v946 v948) (k1_t56 : Fin (k1_t56_loop v946 v948).trips) (k1_t59 : Fin (k1_t59_loop v946 v948 k1_t56).trips), ∀ a, (k1_off796 v946 v948 k1_t56 k1_t59) a + S1x16.size a ≤ S72x256.size a := fun i v946 v948 k1_hw6 k1_t56 k1_t59 => k1_hw6.2.2.2.1.2.2.2.2.2.2.2.2.2.2.2.2.2.2.2.2.2.2.2.2.2.2.1 k1_t56 k1_t59
theorem k1_off797_inb : ∀ (i : grid1.Coords) (v946 : BitVec 32) (v948 : BitVec 32) (k1_hw6 : k1_chk6 i v946 v948) (k1_t56 : Fin (k1_t56_loop v946 v948).trips) (k1_t59 : Fin (k1_t59_loop v946 v948 k1_t56).trips), ∀ a, (k1_off797 v946 v948 k1_t56 k1_t59) a + S1x16.size a ≤ S72x256.size a := fun i v946 v948 k1_hw6 k1_t56 k1_t59 => k1_hw6.2.2.2.1.2.2.2.2.2.2.2.2.2.2.2.2.2.2.2.2.2.2.2.2.2.2.2.1 k1_t56 k1_t59
theorem k1_off798_inb : ∀ (i : grid1.Coords) (v946 : BitVec 32) (v948 : BitVec 32) (k1_hw6 : k1_chk6 i v946 v948) (k1_t56 : Fin (k1_t56_loop v946 v948).trips) (k1_t59 : Fin (k1_t59_loop v946 v948 k1_t56).trips), ∀ a, (k1_off798 v946 v948 k1_t56 k1_t59) a + S1x16.size a ≤ S72x256.size a := fun i v946 v948 k1_hw6 k1_t56 k1_t59 => k1_hw6.2.2.2.1.2.2.2.2.2.2.2.2.2.2.2.2.2.2.2.2.2.2.2.2.2.2.2.2.1 k1_t56 k1_t59
theorem k1_off799_inb : ∀ (i : grid1.Coords) (v946 : BitVec 32) (v948 : BitVec 32) (k1_hw6 : k1_chk6 i v946 v948) (k1_t56 : Fin (k1_t56_loop v946 v948).trips) (k1_t59 : Fin (k1_t59_loop v946 v948 k1_t56).trips), ∀ a, (k1_off799 v946 v948 k1_t56 k1_t59) a + S1x16.size a ≤ S72x256.size a := fun i v946 v948 k1_hw6 k1_t56 k1_t59 => k1_hw6.2.2.2.1.2.2.2.2.2.2.2.2.2.2.2.2.2.2.2.2.2.2.2.2.2.2.2.2.2.1 k1_t56 k1_t59
theorem k1_off800_inb : ∀ (i : grid1.Coords) (v946 : BitVec 32) (v948 : BitVec 32) (k1_hw6 : k1_chk6 i v946 v948) (k1_t56 : Fin (k1_t56_loop v946 v948).trips) (k1_t59 : Fin (k1_t59_loop v946 v948 k1_t56).trips), ∀ a, (k1_off800 v946 v948 k1_t56 k1_t59) a + S1x16.size a ≤ S72x256.size a := fun i v946 v948 k1_hw6 k1_t56 k1_t59 => k1_hw6.2.2.2.1.2.2.2.2.2.2.2.2.2.2.2.2.2.2.2.2.2.2.2.2.2.2.2.2.2.2.1 k1_t56 k1_t59
theorem k1_off801_inb : ∀ (i : grid1.Coords) (v946 : BitVec 32) (v948 : BitVec 32) (k1_hw6 : k1_chk6 i v946 v948) (k1_t56 : Fin (k1_t56_loop v946 v948).trips) (k1_t59 : Fin (k1_t59_loop v946 v948 k1_t56).trips), ∀ a, (k1_off801 v946 v948 k1_t56 k1_t59) a + S1x16.size a ≤ S72x256.size a := fun i v946 v948 k1_hw6 k1_t56 k1_t59 => k1_hw6.2.2.2.1.2.2.2.2.2.2.2.2.2.2.2.2.2.2.2.2.2.2.2.2.2.2.2.2.2.2.2.1 k1_t56 k1_t59
theorem k1_off802_inb : ∀ (i : grid1.Coords) (v946 : BitVec 32) (v948 : BitVec 32) (k1_hw6 : k1_chk6 i v946 v948) (k1_t56 : Fin (k1_t56_loop v946 v948).trips) (k1_t59 : Fin (k1_t59_loop v946 v948 k1_t56).trips), ∀ a, (k1_off802 v946 v948 k1_t56 k1_t59) a + S1x16.size a ≤ S72x256.size a := fun i v946 v948 k1_hw6 k1_t56 k1_t59 => k1_hw6.2.2.2.1.2.2.2.2.2.2.2.2.2.2.2.2.2.2.2.2.2.2.2.2.2.2.2.2.2.2.2.2.1 k1_t56 k1_t59
theorem k1_off803_inb : ∀ (i : grid1.Coords) (v946 : BitVec 32) (v948 : BitVec 32) (k1_hw6 : k1_chk6 i v946 v948) (k1_t56 : Fin (k1_t56_loop v946 v948).trips) (k1_t59 : Fin (k1_t59_loop v946 v948 k1_t56).trips), ∀ a, (k1_off803 v946 v948 k1_t56 k1_t59) a + S1x16.size a ≤ S72x256.size a := fun i v946 v948 k1_hw6 k1_t56 k1_t59 => k1_hw6.2.2.2.1.2.2.2.2.2.2.2.2.2.2.2.2.2.2.2.2.2.2.2.2.2.2.2.2.2.2.2.2.2.1 k1_t56 k1_t59
theorem k1_off804_inb : ∀ (i : grid1.Coords) (v946 : BitVec 32) (v948 : BitVec 32) (k1_hw6 : k1_chk6 i v946 v948) (k1_t56 : Fin (k1_t56_loop v946 v948).trips) (k1_t59 : Fin (k1_t59_loop v946 v948 k1_t56).trips), ∀ a, (k1_off804 v946 v948 k1_t56 k1_t59) a + S1x16.size a ≤ S72x256.size a := fun i v946 v948 k1_hw6 k1_t56 k1_t59 => k1_hw6.2.2.2.1.2.2.2.2.2.2.2.2.2.2.2.2.2.2.2.2.2.2.2.2.2.2.2.2.2.2.2.2.2.2.1 k1_t56 k1_t59
theorem k1_off805_inb : ∀ (i : grid1.Coords) (v946 : BitVec 32) (v948 : BitVec 32) (k1_hw6 : k1_chk6 i v946 v948) (k1_t56 : Fin (k1_t56_loop v946 v948).trips) (k1_t59 : Fin (k1_t59_loop v946 v948 k1_t56).trips), ∀ a, (k1_off805 v946 v948 k1_t56 k1_t59) a + S1x16.size a ≤ S72x256.size a := fun i v946 v948 k1_hw6 k1_t56 k1_t59 => k1_hw6.2.2.2.1.2.2.2.2.2.2.2.2.2.2.2.2.2.2.2.2.2.2.2.2.2.2.2.2.2.2.2.2.2.2.2 k1_t56 k1_t59
theorem k1_off806_inb : ∀ (i : grid1.Coords) (v946 : BitVec 32) (v948 : BitVec 32) (k1_hw6 : k1_chk6 i v946 v948) (k1_t56 : Fin (k1_t56_loop v946 v948).trips) (k1_t59 : Fin (k1_t59_loop v946 v948 k1_t56).trips), ∀ a, (k1_off806 v946 v948 k1_t56 k1_t59) a + S1x16.size a ≤ S72x256.size a := fun i v946 v948 k1_hw6 k1_t56 k1_t59 => k1_hw6.2.2.2.2.1 k1_t56 k1_t59
theorem k1_off807_inb : ∀ (i : grid1.Coords) (v946 : BitVec 32) (v948 : BitVec 32) (k1_hw6 : k1_chk6 i v946 v948) (k1_t56 : Fin (k1_t56_loop v946 v948).trips) (k1_t59 : Fin (k1_t59_loop v946 v948 k1_t56).trips), ∀ a, (k1_off807 v946 v948 k1_t56 k1_t59) a + S1x16.size a ≤ S72x256.size a := fun i v946 v948 k1_hw6 k1_t56 k1_t59 => k1_hw6.2.2.2.2.2.1 k1_t56 k1_t59
theorem k1_t60_ok : ∀ (i : grid1.Coords) (v946 : BitVec 32) (v948 : BitVec 32) (k1_hw6 : k1_chk6 i v946 v948) (k1_t56 : Fin (k1_t56_loop v946 v948).trips), (k1_t60_loop v946 v948 k1_t56).OK := fun i v946 v948 k1_hw6 k1_t56 => k1_hw6.2.2.2.2.2.2.1 k1_t56
theorem k1_off808_inb : ∀ (i : grid1.Coords) (v946 : BitVec 32) (v948 : BitVec 32) (k1_hw6 : k1_chk6 i v946 v948) (k1_t56 : Fin (k1_t56_loop v946 v948).trips) (k1_t60 : Fin (k1_t60_loop v946 v948 k1_t56).trips), ∀ a, (k1_off808 v946 v948 k1_t56 k1_t60) a + S1x16.size a ≤ S72x256.size a := fun i v946 v948 k1_hw6 k1_t56 k1_t60 => k1_hw6.2.2.2.2.2.2.2.1 k1_t56 k1_t60
theorem k1_off809_inb : ∀ (i : grid1.Coords) (v946 : BitVec 32) (v948 : BitVec 32) (k1_hw6 : k1_chk6 i v946 v948) (k1_t56 : Fin (k1_t56_loop v946 v948).trips) (k1_t60 : Fin (k1_t60_loop v946 v948 k1_t56).trips), ∀ a, (k1_off809 v946 v948 k1_t56 k1_t60) a + S1x16.size a ≤ S72x256.size a := fun i v946 v948 k1_hw6 k1_t56 k1_t60 => k1_hw6.2.2.2.2.2.2.2.2.1 k1_t56 k1_t60
theorem k1_off810_inb : ∀ (i : grid1.Coords) (v946 : BitVec 32) (v948 : BitVec 32) (k1_hw6 : k1_chk6 i v946 v948) (k1_t56 : Fin (k1_t56_loop v946 v948).trips) (k1_t60 : Fin (k1_t60_loop v946 v948 k1_t56).trips), ∀ a, (k1_off810 v946 v948 k1_t56 k1_t60) a + S1x16.size a ≤ S72x256.size a := fun i v946 v948 k1_hw6 k1_t56 k1_t60 => k1_hw6.2.2.2.2.2.2.2.2.2.1 k1_t56 k1_t60
theorem k1_off811_inb : ∀ (i : grid1.Coords) (v946 : BitVec 32) (v948 : BitVec 32) (k1_hw6 : k1_chk6 i v946 v948) (k1_t56 : Fin (k1_t56_loop v946 v948).trips) (k1_t60 : Fin (k1_t60_loop v946 v948 k1_t56).trips), ∀ a, (k1_off811 v946 v948 k1_t56 k1_t60) a + S1x16.size a ≤ S72x256.size a := fun i v946 v948 k1_hw6 k1_t56 k1_t60 => k1_hw6.2.2.2.2.2.2.2.2.2.2.1 k1_t56 k1_t60
theorem k1_off812_inb : ∀ (i : grid1.Coords) (v946 : BitVec 32) (v948 : BitVec 32) (k1_hw6 : k1_chk6 i v946 v948) (k1_t56 : Fin (k1_t56_loop v946 v948).trips) (k1_t60 : Fin (k1_t60_loop v946 v948 k1_t56).trips), ∀ a, (k1_off812 v946 v948 k1_t56 k1_t60) a + S1x16.size a ≤ S72x256.size a := fun i v946 v948 k1_hw6 k1_t56 k1_t60 => k1_hw6.2.2.2.2.2.2.2.2.2.2.2.1 k1_t56 k1_t60
theorem k1_off813_inb : ∀ (i : grid1.Coords) (v946 : BitVec 32) (v948 : BitVec 32) (k1_hw6 : k1_chk6 i v946 v948) (k1_t56 : Fin (k1_t56_loop v946 v948).trips) (k1_t60 : Fin (k1_t60_loop v946 v948 k1_t56).trips), ∀ a, (k1_off813 v946 v948 k1_t56 k1_t60) a + S1x16.size a ≤ S72x256.size a := fun i v946 v948 k1_hw6 k1_t56 k1_t60 => k1_hw6.2.2.2.2.2.2.2.2.2.2.2.2.1 k1_t56 k1_t60
theorem k1_off814_inb : ∀ (i : grid1.Coords) (v946 : BitVec 32) (v948 : BitVec 32) (k1_hw6 : k1_chk6 i v946 v948) (k1_t56 : Fin (k1_t56_loop v946 v948).trips) (k1_t60 : Fin (k1_t60_loop v946 v948 k1_t56).trips), ∀ a, (k1_off814 v946 v948 k1_t56 k1_t60) a + S1x16.size a ≤ S72x256.size a := fun i v946 v948 k1_hw6 k1_t56 k1_t60 => k1_hw6.2.2.2.2.2.2.2.2.2.2.2.2.2.1 k1_t56 k1_t60
theorem k1_off815_inb : ∀ (i : grid1.Coords) (v946 : BitVec 32) (v948 : BitVec 32) (k1_hw6 : k1_chk6 i v946 v948) (k1_t56 : Fin (k1_t56_loop v946 v948).trips) (k1_t60 : Fin (k1_t60_loop v946 v948 k1_t56).trips), ∀ a, (k1_off815 v946 v948 k1_t56 k1_t60) a + S1x16.size a ≤ S72x256.size a := fun i v946 v948 k1_hw6 k1_t56 k1_t60 => k1_hw6.2.2.2.2.2.2.2.2.2.2.2.2.2.2.1 k1_t56 k1_t60
theorem k1_off816_inb : ∀ (i : grid1.Coords) (v946 : BitVec 32) (v948 : BitVec 32) (k1_hw6 : k1_chk6 i v946 v948) (k1_t56 : Fin (k1_t56_loop v946 v948).trips) (k1_t60 : Fin (k1_t60_loop v946 v948 k1_t56).trips), ∀ a, (k1_off816 v946 v948 k1_t56 k1_t60) a + S1x16.size a ≤ S72x256.size a := fun i v946 v948 k1_hw6 k1_t56 k1_t60 => k1_hw6.2.2.2.2.2.2.2.2.2.2.2.2.2.2.2.1 k1_t56 k1_t60
theorem k1_off817_inb : ∀ (i : grid1.Coords) (v946 : BitVec 32) (v948 : BitVec 32) (k1_hw6 : k1_chk6 i v946 v948) (k1_t56 : Fin (k1_t56_loop v946 v948).trips) (k1_t60 : Fin (k1_t60_loop v946 v948 k1_t56).trips), ∀ a, (k1_off817 v946 v948 k1_t56 k1_t60) a + S1x16.size a ≤ S72x256.size a := fun i v946 v948 k1_hw6 k1_t56 k1_t60 => k1_hw6.2.2.2.2.2.2.2.2.2.2.2.2.2.2.2.2.1 k1_t56 k1_t60
theorem k1_off818_inb : ∀ (i : grid1.Coords) (v946 : BitVec 32) (v948 : BitVec 32) (k1_hw6 : k1_chk6 i v946 v948) (k1_t56 : Fin (k1_t56_loop v946 v948).trips) (k1_t60 : Fin (k1_t60_loop v946 v948 k1_t56).trips), ∀ a, (k1_off818 v946 v948 k1_t56 k1_t60) a + S1x16.size a ≤ S72x256.size a := fun i v946 v948 k1_hw6 k1_t56 k1_t60 => k1_hw6.2.2.2.2.2.2.2.2.2.2.2.2.2.2.2.2.2.1 k1_t56 k1_t60
theorem k1_off819_inb : ∀ (i : grid1.Coords) (v946 : BitVec 32) (v948 : BitVec 32) (k1_hw6 : k1_chk6 i v946 v948) (k1_t56 : Fin (k1_t56_loop v946 v948).trips) (k1_t60 : Fin (k1_t60_loop v946 v948 k1_t56).trips), ∀ a, (k1_off819 v946 v948 k1_t56 k1_t60) a + S1x16.size a ≤ S72x256.size a := fun i v946 v948 k1_hw6 k1_t56 k1_t60 => k1_hw6.2.2.2.2.2.2.2.2.2.2.2.2.2.2.2.2.2.2.1 k1_t56 k1_t60
theorem k1_off820_inb : ∀ (i : grid1.Coords) (v946 : BitVec 32) (v948 : BitVec 32) (k1_hw6 : k1_chk6 i v946 v948) (k1_t56 : Fin (k1_t56_loop v946 v948).trips) (k1_t60 : Fin (k1_t60_loop v946 v948 k1_t56).trips), ∀ a, (k1_off820 v946 v948 k1_t56 k1_t60) a + S1x16.size a ≤ S72x256.size a := fun i v946 v948 k1_hw6 k1_t56 k1_t60 => k1_hw6.2.2.2.2.2.2.2.2.2.2.2.2.2.2.2.2.2.2.2.1 k1_t56 k1_t60
theorem k1_off821_inb : ∀ (i : grid1.Coords) (v946 : BitVec 32) (v948 : BitVec 32) (k1_hw6 : k1_chk6 i v946 v948) (k1_t56 : Fin (k1_t56_loop v946 v948).trips) (k1_t60 : Fin (k1_t60_loop v946 v948 k1_t56).trips), ∀ a, (k1_off821 v946 v948 k1_t56 k1_t60) a + S1x16.size a ≤ S72x256.size a := fun i v946 v948 k1_hw6 k1_t56 k1_t60 => k1_hw6.2.2.2.2.2.2.2.2.2.2.2.2.2.2.2.2.2.2.2.2.1 k1_t56 k1_t60
theorem k1_off822_inb : ∀ (i : grid1.Coords) (v946 : BitVec 32) (v948 : BitVec 32) (k1_hw6 : k1_chk6 i v946 v948) (k1_t56 : Fin (k1_t56_loop v946 v948).trips) (k1_t60 : Fin (k1_t60_loop v946 v948 k1_t56).trips), ∀ a, (k1_off822 v946 v948 k1_t56 k1_t60) a + S1x16.size a ≤ S72x256.size a := fun i v946 v948 k1_hw6 k1_t56 k1_t60 => k1_hw6.2.2.2.2.2.2.2.2.2.2.2.2.2.2.2.2.2.2.2.2.2.1 k1_t56 k1_t60
theorem k1_off823_inb : ∀ (i : grid1.Coords) (v946 : BitVec 32) (v948 : BitVec 32) (k1_hw6 : k1_chk6 i v946 v948) (k1_t56 : Fin (k1_t56_loop v946 v948).trips) (k1_t60 : Fin (k1_t60_loop v946 v948 k1_t56).trips), ∀ a, (k1_off823 v946 v948 k1_t56 k1_t60) a + S1x16.size a ≤ S72x256.size a := fun i v946 v948 k1_hw6 k1_t56 k1_t60 => k1_hw6.2.2.2.2.2.2.2.2.2.2.2.2.2.2.2.2.2.2.2.2.2.2 k1_t56 k1_t60

def k1_off824 (i : grid1.Coords) (v1128 : BitVec 32) : Fin 2 → Nat :=
  let c0_i32_1408 : BitVec 32 := 0#32
  let v2949 : BitVec 32 := Scalar.addi v1128 c0_i32_1408
  let c0_i32_1410 : BitVec 32 := 0#32
  let v2951 : BitVec 1 := Scalar.cmpi .sgt v2949 c0_i32_1410
  let v2952 : BitVec 32 := Scalar.extui v2951
  let c0_i32_1411 : BitVec 32 := 0#32
  let v2953 : BitVec 1 := Scalar.cmpi .slt v2949 c0_i32_1411
  let v2954 : BitVec 32 := Scalar.extui v2953
  let v2955 : BitVec 32 := Scalar.subi v2952 v2954
  let c8_i32_1409 : BitVec 32 := 8#32
  let c0_i32_1412 : BitVec 32 := 0#32
  let v2956 : BitVec 1 := Scalar.cmpi .sgt c8_i32_1409 c0_i32_1412
  let v2957 : BitVec 32 := Scalar.extui v2956
  let c0_i32_1413 : BitVec 32 := 0#32
  let v2958 : BitVec 1 := Scalar.cmpi .slt c8_i32_1409 c0_i32_1413
  let v2959 : BitVec 32 := Scalar.extui v2958
  let v2960 : BitVec 32 := Scalar.subi v2957 v2959
  let v2961 : BitVec 1 := Scalar.cmpi .ne v2955 v2960
  let v2962 : BitVec 32 := Scalar.remsi v2949 c8_i32_1409
  let c0_i32_1414 : BitVec 32 := 0#32
  let v2963 : BitVec 1 := Scalar.cmpi .ne v2962 c0_i32_1414
  let v2964 : BitVec 1 := Scalar.andi v2961 v2963
  let v2950 : BitVec 32 := Scalar.divsi v2949 c8_i32_1409
  let c1_i32_1415 : BitVec 32 := 1#32
  let v2965 : BitVec 32 := Scalar.subi v2950 c1_i32_1415
  let v2966 : BitVec 32 := Scalar.select v2964 v2965 v2950
  let c8_i32_1416 : BitVec 32 := 8#32
  let v2967 : BitVec 32 := Scalar.muli v2966 c8_i32_1416
  let c99928_i32 : BitVec 32 := 99928#32
  let v2968 : BitVec 32 := Scalar.minsi v2967 c99928_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v2968.toNat, v29.toNat]
def k1_cond55 (v1128 : BitVec 32) (v1130 : BitVec 32) : BitVec 1 :=
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c0_i32_537 : BitVec 32 := 0#32
  let v1153 : BitVec 1 := Scalar.cmpi .sgt v1152 c0_i32_537
  let v1154 : BitVec 32 := Scalar.extui v1153
  let c0_i32_538 : BitVec 32 := 0#32
  let v1155 : BitVec 1 := Scalar.cmpi .ne v1154 c0_i32_538
  v1155

@[reducible] def k1_t61_loop (v1128 : BitVec 32) (v1130 : BitVec 32) : Scf.Loop 32 :=
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_549 : BitVec 32 := 1#32
  ⟨c0_i32_547, v1178, c1_i32_549⟩
def k1_off825 (i : grid1.Coords) (v1128 : BitVec 32) (v1130 : BitVec 32) (k1_t61 : Fin (k1_t61_loop v1128 v1130).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1446 : BitVec 32 := 64#32
  let v3026 : BitVec 32 := Scalar.muli v2949 c64_i32_1446
  let v3027 : BitVec 32 := Scalar.addi v1128 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond56 (v1128 : BitVec 32) (v1130 : BitVec 32) (k1_t61 : Fin (k1_t61_loop v1128 v1130).trips) : BitVec 1 :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let v2950 : BitVec 1 := Scalar.cmpi .slt v2949 v1152
  let v2951 : BitVec 32 := Scalar.extui v2950
  let c0_i32_1409 : BitVec 32 := 0#32
  let v2952 : BitVec 1 := Scalar.cmpi .ne v2951 c0_i32_1409
  v2952

def k1_off826 (i : grid1.Coords) (v1128 : BitVec 32) (v1130 : BitVec 32) (k1_t61 : Fin (k1_t61_loop v1128 v1130).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v1128 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond57 (v1128 : BitVec 32) (v1130 : BitVec 32) (k1_t61 : Fin (k1_t61_loop v1128 v1130).trips) : BitVec 1 :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c1_i32_1456 : BitVec 32 := 1#32
  let v3049 : BitVec 32 := Scalar.addi v2949 c1_i32_1456
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let v3050 : BitVec 1 := Scalar.cmpi .slt v3049 v1152
  let v3051 : BitVec 32 := Scalar.extui v3050
  let c0_i32_1457 : BitVec 32 := 0#32
  let v3052 : BitVec 1 := Scalar.cmpi .ne v3051 c0_i32_1457
  v3052

@[reducible] def k1_t62_loop (v1128 : BitVec 32) (v1130 : BitVec 32) (k1_t61 : Fin (k1_t61_loop v1128 v1130).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off827 (v1128 : BitVec 32) (v1130 : BitVec 32) (k1_t61 : Fin (k1_t61_loop v1128 v1130).trips) (k1_t62 : Fin (k1_t62_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t62
  let v3026 : BitVec 32 := Scalar.addi v2976 arg46
  let v3027 : Index := Scalar.indexCast v3026
  let c0_1446 : Index := 0#32
  ![v3027.toNat, 0]
def k1_off828 (v1128 : BitVec 32) (v1130 : BitVec 32) (k1_t61 : Fin (k1_t61_loop v1128 v1130).trips) (k1_t62 : Fin (k1_t62_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t62
  let v3026 : BitVec 32 := Scalar.addi v2976 arg46
  let v3032 : Index := Scalar.indexCast v3026
  let c16_1447 : Index := 16#32
  ![v3032.toNat, 16]
def k1_off829 (v1128 : BitVec 32) (v1130 : BitVec 32) (k1_t61 : Fin (k1_t61_loop v1128 v1130).trips) (k1_t62 : Fin (k1_t62_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t62
  let v3026 : BitVec 32 := Scalar.addi v2976 arg46
  let v3037 : Index := Scalar.indexCast v3026
  let c32_1448 : Index := 32#32
  ![v3037.toNat, 32]
def k1_off830 (v1128 : BitVec 32) (v1130 : BitVec 32) (k1_t61 : Fin (k1_t61_loop v1128 v1130).trips) (k1_t62 : Fin (k1_t62_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t62
  let v3026 : BitVec 32 := Scalar.addi v2976 arg46
  let v3042 : Index := Scalar.indexCast v3026
  let c48_1449 : Index := 48#32
  ![v3042.toNat, 48]
def k1_off831 (v1128 : BitVec 32) (v1130 : BitVec 32) (k1_t61 : Fin (k1_t61_loop v1128 v1130).trips) (k1_t62 : Fin (k1_t62_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t62
  let v3026 : BitVec 32 := Scalar.addi v2976 arg46
  let v3047 : Index := Scalar.indexCast v3026
  let c64_1450 : Index := 64#32
  ![v3047.toNat, 64]
def k1_off832 (v1128 : BitVec 32) (v1130 : BitVec 32) (k1_t61 : Fin (k1_t61_loop v1128 v1130).trips) (k1_t62 : Fin (k1_t62_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t62
  let v3026 : BitVec 32 := Scalar.addi v2976 arg46
  let v3052 : Index := Scalar.indexCast v3026
  let c80_1451 : Index := 80#32
  ![v3052.toNat, 80]
def k1_off833 (v1128 : BitVec 32) (v1130 : BitVec 32) (k1_t61 : Fin (k1_t61_loop v1128 v1130).trips) (k1_t62 : Fin (k1_t62_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t62
  let v3026 : BitVec 32 := Scalar.addi v2976 arg46
  let v3057 : Index := Scalar.indexCast v3026
  let c96_1452 : Index := 96#32
  ![v3057.toNat, 96]
def k1_off834 (v1128 : BitVec 32) (v1130 : BitVec 32) (k1_t61 : Fin (k1_t61_loop v1128 v1130).trips) (k1_t62 : Fin (k1_t62_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t62
  let v3026 : BitVec 32 := Scalar.addi v2976 arg46
  let v3062 : Index := Scalar.indexCast v3026
  let c112_1453 : Index := 112#32
  ![v3062.toNat, 112]
def k1_off835 (v1128 : BitVec 32) (v1130 : BitVec 32) (k1_t61 : Fin (k1_t61_loop v1128 v1130).trips) (k1_t62 : Fin (k1_t62_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t62
  let v3026 : BitVec 32 := Scalar.addi v2976 arg46
  let v3067 : Index := Scalar.indexCast v3026
  let c128_1454 : Index := 128#32
  ![v3067.toNat, 128]
def k1_off836 (v1128 : BitVec 32) (v1130 : BitVec 32) (k1_t61 : Fin (k1_t61_loop v1128 v1130).trips) (k1_t62 : Fin (k1_t62_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t62
  let v3026 : BitVec 32 := Scalar.addi v2976 arg46
  let v3072 : Index := Scalar.indexCast v3026
  let c144_1455 : Index := 144#32
  ![v3072.toNat, 144]
def k1_off837 (v1128 : BitVec 32) (v1130 : BitVec 32) (k1_t61 : Fin (k1_t61_loop v1128 v1130).trips) (k1_t62 : Fin (k1_t62_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t62
  let v3026 : BitVec 32 := Scalar.addi v2976 arg46
  let v3077 : Index := Scalar.indexCast v3026
  let c160_1456 : Index := 160#32
  ![v3077.toNat, 160]
def k1_off838 (v1128 : BitVec 32) (v1130 : BitVec 32) (k1_t61 : Fin (k1_t61_loop v1128 v1130).trips) (k1_t62 : Fin (k1_t62_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t62
  let v3026 : BitVec 32 := Scalar.addi v2976 arg46
  let v3082 : Index := Scalar.indexCast v3026
  let c176_1457 : Index := 176#32
  ![v3082.toNat, 176]
def k1_off839 (v1128 : BitVec 32) (v1130 : BitVec 32) (k1_t61 : Fin (k1_t61_loop v1128 v1130).trips) (k1_t62 : Fin (k1_t62_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t62
  let v3026 : BitVec 32 := Scalar.addi v2976 arg46
  let v3087 : Index := Scalar.indexCast v3026
  let c192_1458 : Index := 192#32
  ![v3087.toNat, 192]
def k1_off840 (v1128 : BitVec 32) (v1130 : BitVec 32) (k1_t61 : Fin (k1_t61_loop v1128 v1130).trips) (k1_t62 : Fin (k1_t62_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t62
  let v3026 : BitVec 32 := Scalar.addi v2976 arg46
  let v3092 : Index := Scalar.indexCast v3026
  let c208_1459 : Index := 208#32
  ![v3092.toNat, 208]
def k1_off841 (v1128 : BitVec 32) (v1130 : BitVec 32) (k1_t61 : Fin (k1_t61_loop v1128 v1130).trips) (k1_t62 : Fin (k1_t62_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t62
  let v3026 : BitVec 32 := Scalar.addi v2976 arg46
  let v3097 : Index := Scalar.indexCast v3026
  let c224_1460 : Index := 224#32
  ![v3097.toNat, 224]
def k1_off842 (v1128 : BitVec 32) (v1130 : BitVec 32) (k1_t61 : Fin (k1_t61_loop v1128 v1130).trips) (k1_t62 : Fin (k1_t62_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t62
  let v3026 : BitVec 32 := Scalar.addi v2976 arg46
  let v3102 : Index := Scalar.indexCast v3026
  let c240_1461 : Index := 240#32
  ![v3102.toNat, 240]
@[reducible] def k1_t63_loop (v1128 : BitVec 32) (v1130 : BitVec 32) (k1_t61 : Fin (k1_t61_loop v1128 v1130).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off843 (v1128 : BitVec 32) (v1130 : BitVec 32) (k1_t61 : Fin (k1_t61_loop v1128 v1130).trips) (k1_t63 : Fin (k1_t63_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t63
  let v3026 : BitVec 32 := Scalar.addi v2976 arg46
  let v3027 : Index := Scalar.indexCast v3026
  let c0_1446 : Index := 0#32
  ![v3027.toNat, 0]
def k1_off844 (v1128 : BitVec 32) (v1130 : BitVec 32) (k1_t61 : Fin (k1_t61_loop v1128 v1130).trips) (k1_t63 : Fin (k1_t63_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t63
  let v3026 : BitVec 32 := Scalar.addi v2976 arg46
  let v3032 : Index := Scalar.indexCast v3026
  let c16_1447 : Index := 16#32
  ![v3032.toNat, 16]
def k1_off845 (v1128 : BitVec 32) (v1130 : BitVec 32) (k1_t61 : Fin (k1_t61_loop v1128 v1130).trips) (k1_t63 : Fin (k1_t63_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t63
  let v3026 : BitVec 32 := Scalar.addi v2976 arg46
  let v3037 : Index := Scalar.indexCast v3026
  let c32_1448 : Index := 32#32
  ![v3037.toNat, 32]
def k1_off846 (v1128 : BitVec 32) (v1130 : BitVec 32) (k1_t61 : Fin (k1_t61_loop v1128 v1130).trips) (k1_t63 : Fin (k1_t63_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t63
  let v3026 : BitVec 32 := Scalar.addi v2976 arg46
  let v3042 : Index := Scalar.indexCast v3026
  let c48_1449 : Index := 48#32
  ![v3042.toNat, 48]
def k1_off847 (v1128 : BitVec 32) (v1130 : BitVec 32) (k1_t61 : Fin (k1_t61_loop v1128 v1130).trips) (k1_t63 : Fin (k1_t63_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t63
  let v3026 : BitVec 32 := Scalar.addi v2976 arg46
  let v3047 : Index := Scalar.indexCast v3026
  let c64_1450 : Index := 64#32
  ![v3047.toNat, 64]
def k1_off848 (v1128 : BitVec 32) (v1130 : BitVec 32) (k1_t61 : Fin (k1_t61_loop v1128 v1130).trips) (k1_t63 : Fin (k1_t63_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t63
  let v3026 : BitVec 32 := Scalar.addi v2976 arg46
  let v3052 : Index := Scalar.indexCast v3026
  let c80_1451 : Index := 80#32
  ![v3052.toNat, 80]
def k1_off849 (v1128 : BitVec 32) (v1130 : BitVec 32) (k1_t61 : Fin (k1_t61_loop v1128 v1130).trips) (k1_t63 : Fin (k1_t63_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t63
  let v3026 : BitVec 32 := Scalar.addi v2976 arg46
  let v3057 : Index := Scalar.indexCast v3026
  let c96_1452 : Index := 96#32
  ![v3057.toNat, 96]
def k1_off850 (v1128 : BitVec 32) (v1130 : BitVec 32) (k1_t61 : Fin (k1_t61_loop v1128 v1130).trips) (k1_t63 : Fin (k1_t63_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t63
  let v3026 : BitVec 32 := Scalar.addi v2976 arg46
  let v3062 : Index := Scalar.indexCast v3026
  let c112_1453 : Index := 112#32
  ![v3062.toNat, 112]
def k1_off851 (v1128 : BitVec 32) (v1130 : BitVec 32) (k1_t61 : Fin (k1_t61_loop v1128 v1130).trips) (k1_t63 : Fin (k1_t63_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t63
  let v3026 : BitVec 32 := Scalar.addi v2976 arg46
  let v3067 : Index := Scalar.indexCast v3026
  let c128_1454 : Index := 128#32
  ![v3067.toNat, 128]
def k1_off852 (v1128 : BitVec 32) (v1130 : BitVec 32) (k1_t61 : Fin (k1_t61_loop v1128 v1130).trips) (k1_t63 : Fin (k1_t63_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t63
  let v3026 : BitVec 32 := Scalar.addi v2976 arg46
  let v3072 : Index := Scalar.indexCast v3026
  let c144_1455 : Index := 144#32
  ![v3072.toNat, 144]
def k1_off853 (v1128 : BitVec 32) (v1130 : BitVec 32) (k1_t61 : Fin (k1_t61_loop v1128 v1130).trips) (k1_t63 : Fin (k1_t63_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t63
  let v3026 : BitVec 32 := Scalar.addi v2976 arg46
  let v3077 : Index := Scalar.indexCast v3026
  let c160_1456 : Index := 160#32
  ![v3077.toNat, 160]
def k1_off854 (v1128 : BitVec 32) (v1130 : BitVec 32) (k1_t61 : Fin (k1_t61_loop v1128 v1130).trips) (k1_t63 : Fin (k1_t63_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t63
  let v3026 : BitVec 32 := Scalar.addi v2976 arg46
  let v3082 : Index := Scalar.indexCast v3026
  let c176_1457 : Index := 176#32
  ![v3082.toNat, 176]
def k1_off855 (v1128 : BitVec 32) (v1130 : BitVec 32) (k1_t61 : Fin (k1_t61_loop v1128 v1130).trips) (k1_t63 : Fin (k1_t63_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t63
  let v3026 : BitVec 32 := Scalar.addi v2976 arg46
  let v3087 : Index := Scalar.indexCast v3026
  let c192_1458 : Index := 192#32
  ![v3087.toNat, 192]
def k1_off856 (v1128 : BitVec 32) (v1130 : BitVec 32) (k1_t61 : Fin (k1_t61_loop v1128 v1130).trips) (k1_t63 : Fin (k1_t63_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t63
  let v3026 : BitVec 32 := Scalar.addi v2976 arg46
  let v3092 : Index := Scalar.indexCast v3026
  let c208_1459 : Index := 208#32
  ![v3092.toNat, 208]
def k1_off857 (v1128 : BitVec 32) (v1130 : BitVec 32) (k1_t61 : Fin (k1_t61_loop v1128 v1130).trips) (k1_t63 : Fin (k1_t63_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t63
  let v3026 : BitVec 32 := Scalar.addi v2976 arg46
  let v3097 : Index := Scalar.indexCast v3026
  let c224_1460 : Index := 224#32
  ![v3097.toNat, 224]
def k1_off858 (v1128 : BitVec 32) (v1130 : BitVec 32) (k1_t61 : Fin (k1_t61_loop v1128 v1130).trips) (k1_t63 : Fin (k1_t63_loop v1128 v1130 k1_t61).trips) : Fin 2 → Nat :=
  let c2_i32_1408 : BitVec 32 := 2#32
  let c0_i32_547 : BitVec 32 := 0#32
  let c1_i32_549 : BitVec 32 := 1#32
  let arg13 : BitVec 32 := Scf.iv c0_i32_547 c1_i32_549 k1_t61
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t63
  let v3026 : BitVec 32 := Scalar.addi v2976 arg46
  let v3102 : Index := Scalar.indexCast v3026
  let c240_1461 : Index := 240#32
  ![v3102.toNat, 240]
def k1_off859 (i : grid1.Coords) (v1128 : BitVec 32) (v1130 : BitVec 32) (k1_t61 : Fin (k1_t61_loop v1128 v1130).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v1128 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond58 (v1128 : BitVec 32) (v1130 : BitVec 32) (k1_t61 : Fin (k1_t61_loop v1128 v1130).trips) : BitVec 1 :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let v2989 : BitVec 1 := Scalar.cmpi .slt v2988 v1152
  let v2990 : BitVec 32 := Scalar.extui v2989
  let c0_i32_1428 : BitVec 32 := 0#32
  let v2991 : BitVec 1 := Scalar.cmpi .ne v2990 c0_i32_1428
  v2991

def k1_off860 (i : grid1.Coords) (v1128 : BitVec 32) (v1130 : BitVec 32) (k1_t61 : Fin (k1_t61_loop v1128 v1130).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v1128 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond59 (v1128 : BitVec 32) (v1130 : BitVec 32) (k1_t61 : Fin (k1_t61_loop v1128 v1130).trips) : BitVec 1 :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let v3050 : BitVec 1 := Scalar.cmpi .slt v3049 v1152
  let v3051 : BitVec 32 := Scalar.extui v3050
  let c0_i32_1457 : BitVec 32 := 0#32
  let v3052 : BitVec 1 := Scalar.cmpi .ne v3051 c0_i32_1457
  v3052

@[reducible] def k1_t64_loop (v1128 : BitVec 32) (v1130 : BitVec 32) (k1_t61 : Fin (k1_t61_loop v1128 v1130).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off861 (v1128 : BitVec 32) (v1130 : BitVec 32) (k1_t61 : Fin (k1_t61_loop v1128 v1130).trips) (k1_t64 : Fin (k1_t64_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t64
  let v3026 : BitVec 32 := Scalar.addi v3015 arg46
  let v3027 : Index := Scalar.indexCast v3026
  let c0_1446 : Index := 0#32
  ![v3027.toNat, 0]
def k1_off862 (v1128 : BitVec 32) (v1130 : BitVec 32) (k1_t61 : Fin (k1_t61_loop v1128 v1130).trips) (k1_t64 : Fin (k1_t64_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t64
  let v3026 : BitVec 32 := Scalar.addi v3015 arg46
  let v3032 : Index := Scalar.indexCast v3026
  let c16_1447 : Index := 16#32
  ![v3032.toNat, 16]
def k1_off863 (v1128 : BitVec 32) (v1130 : BitVec 32) (k1_t61 : Fin (k1_t61_loop v1128 v1130).trips) (k1_t64 : Fin (k1_t64_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t64
  let v3026 : BitVec 32 := Scalar.addi v3015 arg46
  let v3037 : Index := Scalar.indexCast v3026
  let c32_1448 : Index := 32#32
  ![v3037.toNat, 32]
def k1_off864 (v1128 : BitVec 32) (v1130 : BitVec 32) (k1_t61 : Fin (k1_t61_loop v1128 v1130).trips) (k1_t64 : Fin (k1_t64_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t64
  let v3026 : BitVec 32 := Scalar.addi v3015 arg46
  let v3042 : Index := Scalar.indexCast v3026
  let c48_1449 : Index := 48#32
  ![v3042.toNat, 48]
def k1_off865 (v1128 : BitVec 32) (v1130 : BitVec 32) (k1_t61 : Fin (k1_t61_loop v1128 v1130).trips) (k1_t64 : Fin (k1_t64_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t64
  let v3026 : BitVec 32 := Scalar.addi v3015 arg46
  let v3047 : Index := Scalar.indexCast v3026
  let c64_1450 : Index := 64#32
  ![v3047.toNat, 64]
def k1_off866 (v1128 : BitVec 32) (v1130 : BitVec 32) (k1_t61 : Fin (k1_t61_loop v1128 v1130).trips) (k1_t64 : Fin (k1_t64_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t64
  let v3026 : BitVec 32 := Scalar.addi v3015 arg46
  let v3052 : Index := Scalar.indexCast v3026
  let c80_1451 : Index := 80#32
  ![v3052.toNat, 80]
def k1_off867 (v1128 : BitVec 32) (v1130 : BitVec 32) (k1_t61 : Fin (k1_t61_loop v1128 v1130).trips) (k1_t64 : Fin (k1_t64_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t64
  let v3026 : BitVec 32 := Scalar.addi v3015 arg46
  let v3057 : Index := Scalar.indexCast v3026
  let c96_1452 : Index := 96#32
  ![v3057.toNat, 96]
def k1_off868 (v1128 : BitVec 32) (v1130 : BitVec 32) (k1_t61 : Fin (k1_t61_loop v1128 v1130).trips) (k1_t64 : Fin (k1_t64_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t64
  let v3026 : BitVec 32 := Scalar.addi v3015 arg46
  let v3062 : Index := Scalar.indexCast v3026
  let c112_1453 : Index := 112#32
  ![v3062.toNat, 112]
def k1_off869 (v1128 : BitVec 32) (v1130 : BitVec 32) (k1_t61 : Fin (k1_t61_loop v1128 v1130).trips) (k1_t64 : Fin (k1_t64_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t64
  let v3026 : BitVec 32 := Scalar.addi v3015 arg46
  let v3067 : Index := Scalar.indexCast v3026
  let c128_1454 : Index := 128#32
  ![v3067.toNat, 128]
def k1_off870 (v1128 : BitVec 32) (v1130 : BitVec 32) (k1_t61 : Fin (k1_t61_loop v1128 v1130).trips) (k1_t64 : Fin (k1_t64_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t64
  let v3026 : BitVec 32 := Scalar.addi v3015 arg46
  let v3072 : Index := Scalar.indexCast v3026
  let c144_1455 : Index := 144#32
  ![v3072.toNat, 144]
def k1_off871 (v1128 : BitVec 32) (v1130 : BitVec 32) (k1_t61 : Fin (k1_t61_loop v1128 v1130).trips) (k1_t64 : Fin (k1_t64_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t64
  let v3026 : BitVec 32 := Scalar.addi v3015 arg46
  let v3077 : Index := Scalar.indexCast v3026
  let c160_1456 : Index := 160#32
  ![v3077.toNat, 160]
def k1_off872 (v1128 : BitVec 32) (v1130 : BitVec 32) (k1_t61 : Fin (k1_t61_loop v1128 v1130).trips) (k1_t64 : Fin (k1_t64_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t64
  let v3026 : BitVec 32 := Scalar.addi v3015 arg46
  let v3082 : Index := Scalar.indexCast v3026
  let c176_1457 : Index := 176#32
  ![v3082.toNat, 176]
def k1_off873 (v1128 : BitVec 32) (v1130 : BitVec 32) (k1_t61 : Fin (k1_t61_loop v1128 v1130).trips) (k1_t64 : Fin (k1_t64_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t64
  let v3026 : BitVec 32 := Scalar.addi v3015 arg46
  let v3087 : Index := Scalar.indexCast v3026
  let c192_1458 : Index := 192#32
  ![v3087.toNat, 192]
def k1_off874 (v1128 : BitVec 32) (v1130 : BitVec 32) (k1_t61 : Fin (k1_t61_loop v1128 v1130).trips) (k1_t64 : Fin (k1_t64_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t64
  let v3026 : BitVec 32 := Scalar.addi v3015 arg46
  let v3092 : Index := Scalar.indexCast v3026
  let c208_1459 : Index := 208#32
  ![v3092.toNat, 208]
def k1_off875 (v1128 : BitVec 32) (v1130 : BitVec 32) (k1_t61 : Fin (k1_t61_loop v1128 v1130).trips) (k1_t64 : Fin (k1_t64_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t64
  let v3026 : BitVec 32 := Scalar.addi v3015 arg46
  let v3097 : Index := Scalar.indexCast v3026
  let c224_1460 : Index := 224#32
  ![v3097.toNat, 224]
def k1_off876 (v1128 : BitVec 32) (v1130 : BitVec 32) (k1_t61 : Fin (k1_t61_loop v1128 v1130).trips) (k1_t64 : Fin (k1_t64_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t64
  let v3026 : BitVec 32 := Scalar.addi v3015 arg46
  let v3102 : Index := Scalar.indexCast v3026
  let c240_1461 : Index := 240#32
  ![v3102.toNat, 240]
@[reducible] def k1_t65_loop (v1128 : BitVec 32) (v1130 : BitVec 32) (k1_t61 : Fin (k1_t61_loop v1128 v1130).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off877 (v1128 : BitVec 32) (v1130 : BitVec 32) (k1_t61 : Fin (k1_t61_loop v1128 v1130).trips) (k1_t65 : Fin (k1_t65_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t65
  let v3026 : BitVec 32 := Scalar.addi v3015 arg46
  let v3027 : Index := Scalar.indexCast v3026
  let c0_1446 : Index := 0#32
  ![v3027.toNat, 0]
def k1_off878 (v1128 : BitVec 32) (v1130 : BitVec 32) (k1_t61 : Fin (k1_t61_loop v1128 v1130).trips) (k1_t65 : Fin (k1_t65_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t65
  let v3026 : BitVec 32 := Scalar.addi v3015 arg46
  let v3032 : Index := Scalar.indexCast v3026
  let c16_1447 : Index := 16#32
  ![v3032.toNat, 16]
def k1_off879 (v1128 : BitVec 32) (v1130 : BitVec 32) (k1_t61 : Fin (k1_t61_loop v1128 v1130).trips) (k1_t65 : Fin (k1_t65_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t65
  let v3026 : BitVec 32 := Scalar.addi v3015 arg46
  let v3037 : Index := Scalar.indexCast v3026
  let c32_1448 : Index := 32#32
  ![v3037.toNat, 32]
def k1_off880 (v1128 : BitVec 32) (v1130 : BitVec 32) (k1_t61 : Fin (k1_t61_loop v1128 v1130).trips) (k1_t65 : Fin (k1_t65_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t65
  let v3026 : BitVec 32 := Scalar.addi v3015 arg46
  let v3042 : Index := Scalar.indexCast v3026
  let c48_1449 : Index := 48#32
  ![v3042.toNat, 48]
def k1_off881 (v1128 : BitVec 32) (v1130 : BitVec 32) (k1_t61 : Fin (k1_t61_loop v1128 v1130).trips) (k1_t65 : Fin (k1_t65_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t65
  let v3026 : BitVec 32 := Scalar.addi v3015 arg46
  let v3047 : Index := Scalar.indexCast v3026
  let c64_1450 : Index := 64#32
  ![v3047.toNat, 64]
def k1_off882 (v1128 : BitVec 32) (v1130 : BitVec 32) (k1_t61 : Fin (k1_t61_loop v1128 v1130).trips) (k1_t65 : Fin (k1_t65_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t65
  let v3026 : BitVec 32 := Scalar.addi v3015 arg46
  let v3052 : Index := Scalar.indexCast v3026
  let c80_1451 : Index := 80#32
  ![v3052.toNat, 80]
def k1_off883 (v1128 : BitVec 32) (v1130 : BitVec 32) (k1_t61 : Fin (k1_t61_loop v1128 v1130).trips) (k1_t65 : Fin (k1_t65_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t65
  let v3026 : BitVec 32 := Scalar.addi v3015 arg46
  let v3057 : Index := Scalar.indexCast v3026
  let c96_1452 : Index := 96#32
  ![v3057.toNat, 96]
def k1_off884 (v1128 : BitVec 32) (v1130 : BitVec 32) (k1_t61 : Fin (k1_t61_loop v1128 v1130).trips) (k1_t65 : Fin (k1_t65_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t65
  let v3026 : BitVec 32 := Scalar.addi v3015 arg46
  let v3062 : Index := Scalar.indexCast v3026
  let c112_1453 : Index := 112#32
  ![v3062.toNat, 112]
def k1_off885 (v1128 : BitVec 32) (v1130 : BitVec 32) (k1_t61 : Fin (k1_t61_loop v1128 v1130).trips) (k1_t65 : Fin (k1_t65_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t65
  let v3026 : BitVec 32 := Scalar.addi v3015 arg46
  let v3067 : Index := Scalar.indexCast v3026
  let c128_1454 : Index := 128#32
  ![v3067.toNat, 128]
def k1_off886 (v1128 : BitVec 32) (v1130 : BitVec 32) (k1_t61 : Fin (k1_t61_loop v1128 v1130).trips) (k1_t65 : Fin (k1_t65_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t65
  let v3026 : BitVec 32 := Scalar.addi v3015 arg46
  let v3072 : Index := Scalar.indexCast v3026
  let c144_1455 : Index := 144#32
  ![v3072.toNat, 144]
def k1_off887 (v1128 : BitVec 32) (v1130 : BitVec 32) (k1_t61 : Fin (k1_t61_loop v1128 v1130).trips) (k1_t65 : Fin (k1_t65_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t65
  let v3026 : BitVec 32 := Scalar.addi v3015 arg46
  let v3077 : Index := Scalar.indexCast v3026
  let c160_1456 : Index := 160#32
  ![v3077.toNat, 160]
def k1_off888 (v1128 : BitVec 32) (v1130 : BitVec 32) (k1_t61 : Fin (k1_t61_loop v1128 v1130).trips) (k1_t65 : Fin (k1_t65_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t65
  let v3026 : BitVec 32 := Scalar.addi v3015 arg46
  let v3082 : Index := Scalar.indexCast v3026
  let c176_1457 : Index := 176#32
  ![v3082.toNat, 176]
def k1_off889 (v1128 : BitVec 32) (v1130 : BitVec 32) (k1_t61 : Fin (k1_t61_loop v1128 v1130).trips) (k1_t65 : Fin (k1_t65_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t65
  let v3026 : BitVec 32 := Scalar.addi v3015 arg46
  let v3087 : Index := Scalar.indexCast v3026
  let c192_1458 : Index := 192#32
  ![v3087.toNat, 192]
def k1_off890 (v1128 : BitVec 32) (v1130 : BitVec 32) (k1_t61 : Fin (k1_t61_loop v1128 v1130).trips) (k1_t65 : Fin (k1_t65_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t65
  let v3026 : BitVec 32 := Scalar.addi v3015 arg46
  let v3092 : Index := Scalar.indexCast v3026
  let c208_1459 : Index := 208#32
  ![v3092.toNat, 208]
def k1_off891 (v1128 : BitVec 32) (v1130 : BitVec 32) (k1_t61 : Fin (k1_t61_loop v1128 v1130).trips) (k1_t65 : Fin (k1_t65_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t65
  let v3026 : BitVec 32 := Scalar.addi v3015 arg46
  let v3097 : Index := Scalar.indexCast v3026
  let c224_1460 : Index := 224#32
  ![v3097.toNat, 224]
def k1_off892 (v1128 : BitVec 32) (v1130 : BitVec 32) (k1_t61 : Fin (k1_t61_loop v1128 v1130).trips) (k1_t65 : Fin (k1_t65_loop v1128 v1130 k1_t61).trips) : Fin 2 → Nat :=
  let c2_i32_1426 : BitVec 32 := 2#32
  let c0_i32_547 : BitVec 32 := 0#32
  let c1_i32_549 : BitVec 32 := 1#32
  let arg13 : BitVec 32 := Scf.iv c0_i32_547 c1_i32_549 k1_t61
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t65
  let v3026 : BitVec 32 := Scalar.addi v3015 arg46
  let v3102 : Index := Scalar.indexCast v3026
  let c240_1461 : Index := 240#32
  ![v3102.toNat, 240]
@[reducible] def k1_t66_loop (v1128 : BitVec 32) (v1130 : BitVec 32) : Scf.Loop 32 :=
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let v1175 : BitVec 32 := Scalar.addi c0_i32_547 v1174
  let c1_i32_550 : BitVec 32 := 1#32
  ⟨v1178, v1175, c1_i32_550⟩
def k1_off893 (i : grid1.Coords) (v1128 : BitVec 32) (v1130 : BitVec 32) (k1_t66 : Fin (k1_t66_loop v1128 v1130).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1446 : BitVec 32 := 64#32
  let v3026 : BitVec 32 := Scalar.muli v2949 c64_i32_1446
  let v3027 : BitVec 32 := Scalar.addi v1128 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond60 (v1128 : BitVec 32) (v1130 : BitVec 32) (k1_t66 : Fin (k1_t66_loop v1128 v1130).trips) : BitVec 1 :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let v2950 : BitVec 1 := Scalar.cmpi .slt v2949 v1152
  let v2951 : BitVec 32 := Scalar.extui v2950
  let c0_i32_1409 : BitVec 32 := 0#32
  let v2952 : BitVec 1 := Scalar.cmpi .ne v2951 c0_i32_1409
  v2952

def k1_off894 (i : grid1.Coords) (v1128 : BitVec 32) (v1130 : BitVec 32) (k1_t66 : Fin (k1_t66_loop v1128 v1130).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v1128 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond61 (v1128 : BitVec 32) (v1130 : BitVec 32) (k1_t66 : Fin (k1_t66_loop v1128 v1130).trips) : BitVec 1 :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c1_i32_1456 : BitVec 32 := 1#32
  let v3049 : BitVec 32 := Scalar.addi v2949 c1_i32_1456
  let v3050 : BitVec 1 := Scalar.cmpi .slt v3049 v1152
  let v3051 : BitVec 32 := Scalar.extui v3050
  let c0_i32_1457 : BitVec 32 := 0#32
  let v3052 : BitVec 1 := Scalar.cmpi .ne v3051 c0_i32_1457
  v3052

@[reducible] def k1_t67_loop (v1128 : BitVec 32) (v1130 : BitVec 32) (k1_t66 : Fin (k1_t66_loop v1128 v1130).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off895 (v1128 : BitVec 32) (v1130 : BitVec 32) (k1_t66 : Fin (k1_t66_loop v1128 v1130).trips) (k1_t67 : Fin (k1_t67_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t67
  let v3026 : BitVec 32 := Scalar.addi v2976 arg46
  let v3027 : Index := Scalar.indexCast v3026
  let c0_1446 : Index := 0#32
  ![v3027.toNat, 0]
def k1_off896 (v1128 : BitVec 32) (v1130 : BitVec 32) (k1_t66 : Fin (k1_t66_loop v1128 v1130).trips) (k1_t67 : Fin (k1_t67_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t67
  let v3026 : BitVec 32 := Scalar.addi v2976 arg46
  let v3032 : Index := Scalar.indexCast v3026
  let c16_1447 : Index := 16#32
  ![v3032.toNat, 16]
def k1_off897 (v1128 : BitVec 32) (v1130 : BitVec 32) (k1_t66 : Fin (k1_t66_loop v1128 v1130).trips) (k1_t67 : Fin (k1_t67_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t67
  let v3026 : BitVec 32 := Scalar.addi v2976 arg46
  let v3037 : Index := Scalar.indexCast v3026
  let c32_1448 : Index := 32#32
  ![v3037.toNat, 32]
def k1_off898 (v1128 : BitVec 32) (v1130 : BitVec 32) (k1_t66 : Fin (k1_t66_loop v1128 v1130).trips) (k1_t67 : Fin (k1_t67_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t67
  let v3026 : BitVec 32 := Scalar.addi v2976 arg46
  let v3042 : Index := Scalar.indexCast v3026
  let c48_1449 : Index := 48#32
  ![v3042.toNat, 48]
def k1_off899 (v1128 : BitVec 32) (v1130 : BitVec 32) (k1_t66 : Fin (k1_t66_loop v1128 v1130).trips) (k1_t67 : Fin (k1_t67_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t67
  let v3026 : BitVec 32 := Scalar.addi v2976 arg46
  let v3047 : Index := Scalar.indexCast v3026
  let c64_1450 : Index := 64#32
  ![v3047.toNat, 64]
def k1_off900 (v1128 : BitVec 32) (v1130 : BitVec 32) (k1_t66 : Fin (k1_t66_loop v1128 v1130).trips) (k1_t67 : Fin (k1_t67_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t67
  let v3026 : BitVec 32 := Scalar.addi v2976 arg46
  let v3052 : Index := Scalar.indexCast v3026
  let c80_1451 : Index := 80#32
  ![v3052.toNat, 80]
def k1_off901 (v1128 : BitVec 32) (v1130 : BitVec 32) (k1_t66 : Fin (k1_t66_loop v1128 v1130).trips) (k1_t67 : Fin (k1_t67_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t67
  let v3026 : BitVec 32 := Scalar.addi v2976 arg46
  let v3057 : Index := Scalar.indexCast v3026
  let c96_1452 : Index := 96#32
  ![v3057.toNat, 96]
def k1_off902 (v1128 : BitVec 32) (v1130 : BitVec 32) (k1_t66 : Fin (k1_t66_loop v1128 v1130).trips) (k1_t67 : Fin (k1_t67_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t67
  let v3026 : BitVec 32 := Scalar.addi v2976 arg46
  let v3062 : Index := Scalar.indexCast v3026
  let c112_1453 : Index := 112#32
  ![v3062.toNat, 112]
def k1_off903 (v1128 : BitVec 32) (v1130 : BitVec 32) (k1_t66 : Fin (k1_t66_loop v1128 v1130).trips) (k1_t67 : Fin (k1_t67_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t67
  let v3026 : BitVec 32 := Scalar.addi v2976 arg46
  let v3067 : Index := Scalar.indexCast v3026
  let c128_1454 : Index := 128#32
  ![v3067.toNat, 128]
def k1_off904 (v1128 : BitVec 32) (v1130 : BitVec 32) (k1_t66 : Fin (k1_t66_loop v1128 v1130).trips) (k1_t67 : Fin (k1_t67_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t67
  let v3026 : BitVec 32 := Scalar.addi v2976 arg46
  let v3072 : Index := Scalar.indexCast v3026
  let c144_1455 : Index := 144#32
  ![v3072.toNat, 144]
def k1_off905 (v1128 : BitVec 32) (v1130 : BitVec 32) (k1_t66 : Fin (k1_t66_loop v1128 v1130).trips) (k1_t67 : Fin (k1_t67_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t67
  let v3026 : BitVec 32 := Scalar.addi v2976 arg46
  let v3077 : Index := Scalar.indexCast v3026
  let c160_1456 : Index := 160#32
  ![v3077.toNat, 160]
def k1_off906 (v1128 : BitVec 32) (v1130 : BitVec 32) (k1_t66 : Fin (k1_t66_loop v1128 v1130).trips) (k1_t67 : Fin (k1_t67_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t67
  let v3026 : BitVec 32 := Scalar.addi v2976 arg46
  let v3082 : Index := Scalar.indexCast v3026
  let c176_1457 : Index := 176#32
  ![v3082.toNat, 176]
def k1_off907 (v1128 : BitVec 32) (v1130 : BitVec 32) (k1_t66 : Fin (k1_t66_loop v1128 v1130).trips) (k1_t67 : Fin (k1_t67_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t67
  let v3026 : BitVec 32 := Scalar.addi v2976 arg46
  let v3087 : Index := Scalar.indexCast v3026
  let c192_1458 : Index := 192#32
  ![v3087.toNat, 192]
def k1_off908 (v1128 : BitVec 32) (v1130 : BitVec 32) (k1_t66 : Fin (k1_t66_loop v1128 v1130).trips) (k1_t67 : Fin (k1_t67_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t67
  let v3026 : BitVec 32 := Scalar.addi v2976 arg46
  let v3092 : Index := Scalar.indexCast v3026
  let c208_1459 : Index := 208#32
  ![v3092.toNat, 208]
def k1_off909 (v1128 : BitVec 32) (v1130 : BitVec 32) (k1_t66 : Fin (k1_t66_loop v1128 v1130).trips) (k1_t67 : Fin (k1_t67_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t67
  let v3026 : BitVec 32 := Scalar.addi v2976 arg46
  let v3097 : Index := Scalar.indexCast v3026
  let c224_1460 : Index := 224#32
  ![v3097.toNat, 224]
def k1_off910 (v1128 : BitVec 32) (v1130 : BitVec 32) (k1_t66 : Fin (k1_t66_loop v1128 v1130).trips) (k1_t67 : Fin (k1_t67_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t67
  let v3026 : BitVec 32 := Scalar.addi v2976 arg46
  let v3102 : Index := Scalar.indexCast v3026
  let c240_1461 : Index := 240#32
  ![v3102.toNat, 240]
@[reducible] def k1_t68_loop (v1128 : BitVec 32) (v1130 : BitVec 32) (k1_t66 : Fin (k1_t66_loop v1128 v1130).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off911 (v1128 : BitVec 32) (v1130 : BitVec 32) (k1_t66 : Fin (k1_t66_loop v1128 v1130).trips) (k1_t68 : Fin (k1_t68_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t68
  let v3026 : BitVec 32 := Scalar.addi v2976 arg46
  let v3027 : Index := Scalar.indexCast v3026
  let c0_1446 : Index := 0#32
  ![v3027.toNat, 0]
def k1_off912 (v1128 : BitVec 32) (v1130 : BitVec 32) (k1_t66 : Fin (k1_t66_loop v1128 v1130).trips) (k1_t68 : Fin (k1_t68_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t68
  let v3026 : BitVec 32 := Scalar.addi v2976 arg46
  let v3032 : Index := Scalar.indexCast v3026
  let c16_1447 : Index := 16#32
  ![v3032.toNat, 16]
def k1_off913 (v1128 : BitVec 32) (v1130 : BitVec 32) (k1_t66 : Fin (k1_t66_loop v1128 v1130).trips) (k1_t68 : Fin (k1_t68_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t68
  let v3026 : BitVec 32 := Scalar.addi v2976 arg46
  let v3037 : Index := Scalar.indexCast v3026
  let c32_1448 : Index := 32#32
  ![v3037.toNat, 32]
def k1_off914 (v1128 : BitVec 32) (v1130 : BitVec 32) (k1_t66 : Fin (k1_t66_loop v1128 v1130).trips) (k1_t68 : Fin (k1_t68_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t68
  let v3026 : BitVec 32 := Scalar.addi v2976 arg46
  let v3042 : Index := Scalar.indexCast v3026
  let c48_1449 : Index := 48#32
  ![v3042.toNat, 48]
def k1_off915 (v1128 : BitVec 32) (v1130 : BitVec 32) (k1_t66 : Fin (k1_t66_loop v1128 v1130).trips) (k1_t68 : Fin (k1_t68_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t68
  let v3026 : BitVec 32 := Scalar.addi v2976 arg46
  let v3047 : Index := Scalar.indexCast v3026
  let c64_1450 : Index := 64#32
  ![v3047.toNat, 64]
def k1_off916 (v1128 : BitVec 32) (v1130 : BitVec 32) (k1_t66 : Fin (k1_t66_loop v1128 v1130).trips) (k1_t68 : Fin (k1_t68_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t68
  let v3026 : BitVec 32 := Scalar.addi v2976 arg46
  let v3052 : Index := Scalar.indexCast v3026
  let c80_1451 : Index := 80#32
  ![v3052.toNat, 80]
def k1_off917 (v1128 : BitVec 32) (v1130 : BitVec 32) (k1_t66 : Fin (k1_t66_loop v1128 v1130).trips) (k1_t68 : Fin (k1_t68_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t68
  let v3026 : BitVec 32 := Scalar.addi v2976 arg46
  let v3057 : Index := Scalar.indexCast v3026
  let c96_1452 : Index := 96#32
  ![v3057.toNat, 96]
def k1_off918 (v1128 : BitVec 32) (v1130 : BitVec 32) (k1_t66 : Fin (k1_t66_loop v1128 v1130).trips) (k1_t68 : Fin (k1_t68_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t68
  let v3026 : BitVec 32 := Scalar.addi v2976 arg46
  let v3062 : Index := Scalar.indexCast v3026
  let c112_1453 : Index := 112#32
  ![v3062.toNat, 112]
def k1_off919 (v1128 : BitVec 32) (v1130 : BitVec 32) (k1_t66 : Fin (k1_t66_loop v1128 v1130).trips) (k1_t68 : Fin (k1_t68_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t68
  let v3026 : BitVec 32 := Scalar.addi v2976 arg46
  let v3067 : Index := Scalar.indexCast v3026
  let c128_1454 : Index := 128#32
  ![v3067.toNat, 128]
def k1_off920 (v1128 : BitVec 32) (v1130 : BitVec 32) (k1_t66 : Fin (k1_t66_loop v1128 v1130).trips) (k1_t68 : Fin (k1_t68_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t68
  let v3026 : BitVec 32 := Scalar.addi v2976 arg46
  let v3072 : Index := Scalar.indexCast v3026
  let c144_1455 : Index := 144#32
  ![v3072.toNat, 144]
def k1_off921 (v1128 : BitVec 32) (v1130 : BitVec 32) (k1_t66 : Fin (k1_t66_loop v1128 v1130).trips) (k1_t68 : Fin (k1_t68_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t68
  let v3026 : BitVec 32 := Scalar.addi v2976 arg46
  let v3077 : Index := Scalar.indexCast v3026
  let c160_1456 : Index := 160#32
  ![v3077.toNat, 160]
def k1_off922 (v1128 : BitVec 32) (v1130 : BitVec 32) (k1_t66 : Fin (k1_t66_loop v1128 v1130).trips) (k1_t68 : Fin (k1_t68_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t68
  let v3026 : BitVec 32 := Scalar.addi v2976 arg46
  let v3082 : Index := Scalar.indexCast v3026
  let c176_1457 : Index := 176#32
  ![v3082.toNat, 176]
def k1_off923 (v1128 : BitVec 32) (v1130 : BitVec 32) (k1_t66 : Fin (k1_t66_loop v1128 v1130).trips) (k1_t68 : Fin (k1_t68_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t68
  let v3026 : BitVec 32 := Scalar.addi v2976 arg46
  let v3087 : Index := Scalar.indexCast v3026
  let c192_1458 : Index := 192#32
  ![v3087.toNat, 192]
def k1_off924 (v1128 : BitVec 32) (v1130 : BitVec 32) (k1_t66 : Fin (k1_t66_loop v1128 v1130).trips) (k1_t68 : Fin (k1_t68_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t68
  let v3026 : BitVec 32 := Scalar.addi v2976 arg46
  let v3092 : Index := Scalar.indexCast v3026
  let c208_1459 : Index := 208#32
  ![v3092.toNat, 208]
def k1_off925 (v1128 : BitVec 32) (v1130 : BitVec 32) (k1_t66 : Fin (k1_t66_loop v1128 v1130).trips) (k1_t68 : Fin (k1_t68_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t68
  let v3026 : BitVec 32 := Scalar.addi v2976 arg46
  let v3097 : Index := Scalar.indexCast v3026
  let c224_1460 : Index := 224#32
  ![v3097.toNat, 224]
def k1_off926 (v1128 : BitVec 32) (v1130 : BitVec 32) (k1_t66 : Fin (k1_t66_loop v1128 v1130).trips) (k1_t68 : Fin (k1_t68_loop v1128 v1130 k1_t66).trips) : Fin 2 → Nat :=
  let c2_i32_1408 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2949 : BitVec 32 := Scalar.muli c2_i32_1408 arg13
  let c64_i32_1410 : BitVec 32 := 64#32
  let v2953 : BitVec 32 := Scalar.muli v2949 c64_i32_1410
  let v2954 : BitVec 32 := Scalar.addi v1128 v2953
  let c64_i32_1411 : BitVec 32 := 64#32
  let v2955 : BitVec 32 := Scalar.muli v2949 c64_i32_1411
  let v2956 : BitVec 32 := Scalar.addi v1128 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1130 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t68
  let v3026 : BitVec 32 := Scalar.addi v2976 arg46
  let v3102 : Index := Scalar.indexCast v3026
  let c240_1461 : Index := 240#32
  ![v3102.toNat, 240]
def k1_off927 (i : grid1.Coords) (v1128 : BitVec 32) (v1130 : BitVec 32) (k1_t66 : Fin (k1_t66_loop v1128 v1130).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v1128 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond62 (v1128 : BitVec 32) (v1130 : BitVec 32) (k1_t66 : Fin (k1_t66_loop v1128 v1130).trips) : BitVec 1 :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let v2989 : BitVec 1 := Scalar.cmpi .slt v2988 v1152
  let v2990 : BitVec 32 := Scalar.extui v2989
  let c0_i32_1428 : BitVec 32 := 0#32
  let v2991 : BitVec 1 := Scalar.cmpi .ne v2990 c0_i32_1428
  v2991

def k1_off928 (i : grid1.Coords) (v1128 : BitVec 32) (v1130 : BitVec 32) (k1_t66 : Fin (k1_t66_loop v1128 v1130).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v1128 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond63 (v1128 : BitVec 32) (v1130 : BitVec 32) (k1_t66 : Fin (k1_t66_loop v1128 v1130).trips) : BitVec 1 :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v3050 : BitVec 1 := Scalar.cmpi .slt v3049 v1152
  let v3051 : BitVec 32 := Scalar.extui v3050
  let c0_i32_1457 : BitVec 32 := 0#32
  let v3052 : BitVec 1 := Scalar.cmpi .ne v3051 c0_i32_1457
  v3052

@[reducible] def k1_t69_loop (v1128 : BitVec 32) (v1130 : BitVec 32) (k1_t66 : Fin (k1_t66_loop v1128 v1130).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off929 (v1128 : BitVec 32) (v1130 : BitVec 32) (k1_t66 : Fin (k1_t66_loop v1128 v1130).trips) (k1_t69 : Fin (k1_t69_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t69
  let v3026 : BitVec 32 := Scalar.addi v3015 arg46
  let v3027 : Index := Scalar.indexCast v3026
  let c0_1446 : Index := 0#32
  ![v3027.toNat, 0]
def k1_off930 (v1128 : BitVec 32) (v1130 : BitVec 32) (k1_t66 : Fin (k1_t66_loop v1128 v1130).trips) (k1_t69 : Fin (k1_t69_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t69
  let v3026 : BitVec 32 := Scalar.addi v3015 arg46
  let v3032 : Index := Scalar.indexCast v3026
  let c16_1447 : Index := 16#32
  ![v3032.toNat, 16]
def k1_off931 (v1128 : BitVec 32) (v1130 : BitVec 32) (k1_t66 : Fin (k1_t66_loop v1128 v1130).trips) (k1_t69 : Fin (k1_t69_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t69
  let v3026 : BitVec 32 := Scalar.addi v3015 arg46
  let v3037 : Index := Scalar.indexCast v3026
  let c32_1448 : Index := 32#32
  ![v3037.toNat, 32]
def k1_off932 (v1128 : BitVec 32) (v1130 : BitVec 32) (k1_t66 : Fin (k1_t66_loop v1128 v1130).trips) (k1_t69 : Fin (k1_t69_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t69
  let v3026 : BitVec 32 := Scalar.addi v3015 arg46
  let v3042 : Index := Scalar.indexCast v3026
  let c48_1449 : Index := 48#32
  ![v3042.toNat, 48]
def k1_off933 (v1128 : BitVec 32) (v1130 : BitVec 32) (k1_t66 : Fin (k1_t66_loop v1128 v1130).trips) (k1_t69 : Fin (k1_t69_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t69
  let v3026 : BitVec 32 := Scalar.addi v3015 arg46
  let v3047 : Index := Scalar.indexCast v3026
  let c64_1450 : Index := 64#32
  ![v3047.toNat, 64]
def k1_off934 (v1128 : BitVec 32) (v1130 : BitVec 32) (k1_t66 : Fin (k1_t66_loop v1128 v1130).trips) (k1_t69 : Fin (k1_t69_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t69
  let v3026 : BitVec 32 := Scalar.addi v3015 arg46
  let v3052 : Index := Scalar.indexCast v3026
  let c80_1451 : Index := 80#32
  ![v3052.toNat, 80]
def k1_off935 (v1128 : BitVec 32) (v1130 : BitVec 32) (k1_t66 : Fin (k1_t66_loop v1128 v1130).trips) (k1_t69 : Fin (k1_t69_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t69
  let v3026 : BitVec 32 := Scalar.addi v3015 arg46
  let v3057 : Index := Scalar.indexCast v3026
  let c96_1452 : Index := 96#32
  ![v3057.toNat, 96]
def k1_off936 (v1128 : BitVec 32) (v1130 : BitVec 32) (k1_t66 : Fin (k1_t66_loop v1128 v1130).trips) (k1_t69 : Fin (k1_t69_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t69
  let v3026 : BitVec 32 := Scalar.addi v3015 arg46
  let v3062 : Index := Scalar.indexCast v3026
  let c112_1453 : Index := 112#32
  ![v3062.toNat, 112]
def k1_off937 (v1128 : BitVec 32) (v1130 : BitVec 32) (k1_t66 : Fin (k1_t66_loop v1128 v1130).trips) (k1_t69 : Fin (k1_t69_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t69
  let v3026 : BitVec 32 := Scalar.addi v3015 arg46
  let v3067 : Index := Scalar.indexCast v3026
  let c128_1454 : Index := 128#32
  ![v3067.toNat, 128]
def k1_off938 (v1128 : BitVec 32) (v1130 : BitVec 32) (k1_t66 : Fin (k1_t66_loop v1128 v1130).trips) (k1_t69 : Fin (k1_t69_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t69
  let v3026 : BitVec 32 := Scalar.addi v3015 arg46
  let v3072 : Index := Scalar.indexCast v3026
  let c144_1455 : Index := 144#32
  ![v3072.toNat, 144]
def k1_off939 (v1128 : BitVec 32) (v1130 : BitVec 32) (k1_t66 : Fin (k1_t66_loop v1128 v1130).trips) (k1_t69 : Fin (k1_t69_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t69
  let v3026 : BitVec 32 := Scalar.addi v3015 arg46
  let v3077 : Index := Scalar.indexCast v3026
  let c160_1456 : Index := 160#32
  ![v3077.toNat, 160]
def k1_off940 (v1128 : BitVec 32) (v1130 : BitVec 32) (k1_t66 : Fin (k1_t66_loop v1128 v1130).trips) (k1_t69 : Fin (k1_t69_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t69
  let v3026 : BitVec 32 := Scalar.addi v3015 arg46
  let v3082 : Index := Scalar.indexCast v3026
  let c176_1457 : Index := 176#32
  ![v3082.toNat, 176]
def k1_off941 (v1128 : BitVec 32) (v1130 : BitVec 32) (k1_t66 : Fin (k1_t66_loop v1128 v1130).trips) (k1_t69 : Fin (k1_t69_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t69
  let v3026 : BitVec 32 := Scalar.addi v3015 arg46
  let v3087 : Index := Scalar.indexCast v3026
  let c192_1458 : Index := 192#32
  ![v3087.toNat, 192]
def k1_off942 (v1128 : BitVec 32) (v1130 : BitVec 32) (k1_t66 : Fin (k1_t66_loop v1128 v1130).trips) (k1_t69 : Fin (k1_t69_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t69
  let v3026 : BitVec 32 := Scalar.addi v3015 arg46
  let v3092 : Index := Scalar.indexCast v3026
  let c208_1459 : Index := 208#32
  ![v3092.toNat, 208]
def k1_off943 (v1128 : BitVec 32) (v1130 : BitVec 32) (k1_t66 : Fin (k1_t66_loop v1128 v1130).trips) (k1_t69 : Fin (k1_t69_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t69
  let v3026 : BitVec 32 := Scalar.addi v3015 arg46
  let v3097 : Index := Scalar.indexCast v3026
  let c224_1460 : Index := 224#32
  ![v3097.toNat, 224]
def k1_off944 (v1128 : BitVec 32) (v1130 : BitVec 32) (k1_t66 : Fin (k1_t66_loop v1128 v1130).trips) (k1_t69 : Fin (k1_t69_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t69
  let v3026 : BitVec 32 := Scalar.addi v3015 arg46
  let v3102 : Index := Scalar.indexCast v3026
  let c240_1461 : Index := 240#32
  ![v3102.toNat, 240]
@[reducible] def k1_t70_loop (v1128 : BitVec 32) (v1130 : BitVec 32) (k1_t66 : Fin (k1_t66_loop v1128 v1130).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off945 (v1128 : BitVec 32) (v1130 : BitVec 32) (k1_t66 : Fin (k1_t66_loop v1128 v1130).trips) (k1_t70 : Fin (k1_t70_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t70
  let v3026 : BitVec 32 := Scalar.addi v3015 arg46
  let v3027 : Index := Scalar.indexCast v3026
  let c0_1446 : Index := 0#32
  ![v3027.toNat, 0]
def k1_off946 (v1128 : BitVec 32) (v1130 : BitVec 32) (k1_t66 : Fin (k1_t66_loop v1128 v1130).trips) (k1_t70 : Fin (k1_t70_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t70
  let v3026 : BitVec 32 := Scalar.addi v3015 arg46
  let v3032 : Index := Scalar.indexCast v3026
  let c16_1447 : Index := 16#32
  ![v3032.toNat, 16]
def k1_off947 (v1128 : BitVec 32) (v1130 : BitVec 32) (k1_t66 : Fin (k1_t66_loop v1128 v1130).trips) (k1_t70 : Fin (k1_t70_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t70
  let v3026 : BitVec 32 := Scalar.addi v3015 arg46
  let v3037 : Index := Scalar.indexCast v3026
  let c32_1448 : Index := 32#32
  ![v3037.toNat, 32]
def k1_off948 (v1128 : BitVec 32) (v1130 : BitVec 32) (k1_t66 : Fin (k1_t66_loop v1128 v1130).trips) (k1_t70 : Fin (k1_t70_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t70
  let v3026 : BitVec 32 := Scalar.addi v3015 arg46
  let v3042 : Index := Scalar.indexCast v3026
  let c48_1449 : Index := 48#32
  ![v3042.toNat, 48]
def k1_off949 (v1128 : BitVec 32) (v1130 : BitVec 32) (k1_t66 : Fin (k1_t66_loop v1128 v1130).trips) (k1_t70 : Fin (k1_t70_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t70
  let v3026 : BitVec 32 := Scalar.addi v3015 arg46
  let v3047 : Index := Scalar.indexCast v3026
  let c64_1450 : Index := 64#32
  ![v3047.toNat, 64]
def k1_off950 (v1128 : BitVec 32) (v1130 : BitVec 32) (k1_t66 : Fin (k1_t66_loop v1128 v1130).trips) (k1_t70 : Fin (k1_t70_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t70
  let v3026 : BitVec 32 := Scalar.addi v3015 arg46
  let v3052 : Index := Scalar.indexCast v3026
  let c80_1451 : Index := 80#32
  ![v3052.toNat, 80]
def k1_off951 (v1128 : BitVec 32) (v1130 : BitVec 32) (k1_t66 : Fin (k1_t66_loop v1128 v1130).trips) (k1_t70 : Fin (k1_t70_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t70
  let v3026 : BitVec 32 := Scalar.addi v3015 arg46
  let v3057 : Index := Scalar.indexCast v3026
  let c96_1452 : Index := 96#32
  ![v3057.toNat, 96]
def k1_off952 (v1128 : BitVec 32) (v1130 : BitVec 32) (k1_t66 : Fin (k1_t66_loop v1128 v1130).trips) (k1_t70 : Fin (k1_t70_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t70
  let v3026 : BitVec 32 := Scalar.addi v3015 arg46
  let v3062 : Index := Scalar.indexCast v3026
  let c112_1453 : Index := 112#32
  ![v3062.toNat, 112]
def k1_off953 (v1128 : BitVec 32) (v1130 : BitVec 32) (k1_t66 : Fin (k1_t66_loop v1128 v1130).trips) (k1_t70 : Fin (k1_t70_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t70
  let v3026 : BitVec 32 := Scalar.addi v3015 arg46
  let v3067 : Index := Scalar.indexCast v3026
  let c128_1454 : Index := 128#32
  ![v3067.toNat, 128]
def k1_off954 (v1128 : BitVec 32) (v1130 : BitVec 32) (k1_t66 : Fin (k1_t66_loop v1128 v1130).trips) (k1_t70 : Fin (k1_t70_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t70
  let v3026 : BitVec 32 := Scalar.addi v3015 arg46
  let v3072 : Index := Scalar.indexCast v3026
  let c144_1455 : Index := 144#32
  ![v3072.toNat, 144]
def k1_off955 (v1128 : BitVec 32) (v1130 : BitVec 32) (k1_t66 : Fin (k1_t66_loop v1128 v1130).trips) (k1_t70 : Fin (k1_t70_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t70
  let v3026 : BitVec 32 := Scalar.addi v3015 arg46
  let v3077 : Index := Scalar.indexCast v3026
  let c160_1456 : Index := 160#32
  ![v3077.toNat, 160]
def k1_off956 (v1128 : BitVec 32) (v1130 : BitVec 32) (k1_t66 : Fin (k1_t66_loop v1128 v1130).trips) (k1_t70 : Fin (k1_t70_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t70
  let v3026 : BitVec 32 := Scalar.addi v3015 arg46
  let v3082 : Index := Scalar.indexCast v3026
  let c176_1457 : Index := 176#32
  ![v3082.toNat, 176]
def k1_off957 (v1128 : BitVec 32) (v1130 : BitVec 32) (k1_t66 : Fin (k1_t66_loop v1128 v1130).trips) (k1_t70 : Fin (k1_t70_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t70
  let v3026 : BitVec 32 := Scalar.addi v3015 arg46
  let v3087 : Index := Scalar.indexCast v3026
  let c192_1458 : Index := 192#32
  ![v3087.toNat, 192]
def k1_off958 (v1128 : BitVec 32) (v1130 : BitVec 32) (k1_t66 : Fin (k1_t66_loop v1128 v1130).trips) (k1_t70 : Fin (k1_t70_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t70
  let v3026 : BitVec 32 := Scalar.addi v3015 arg46
  let v3092 : Index := Scalar.indexCast v3026
  let c208_1459 : Index := 208#32
  ![v3092.toNat, 208]
def k1_off959 (v1128 : BitVec 32) (v1130 : BitVec 32) (k1_t66 : Fin (k1_t66_loop v1128 v1130).trips) (k1_t70 : Fin (k1_t70_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t70
  let v3026 : BitVec 32 := Scalar.addi v3015 arg46
  let v3097 : Index := Scalar.indexCast v3026
  let c224_1460 : Index := 224#32
  ![v3097.toNat, 224]
def k1_off960 (v1128 : BitVec 32) (v1130 : BitVec 32) (k1_t66 : Fin (k1_t66_loop v1128 v1130).trips) (k1_t70 : Fin (k1_t70_loop v1128 v1130 k1_t66).trips) : Fin 2 → Nat :=
  let c2_i32_1426 : BitVec 32 := 2#32
  let c0_i32_547 : BitVec 32 := 0#32
  let v1133 : BitVec 32 := Scalar.subi v1130 v1128
  let c64_i32_528 : BitVec 32 := 64#32
  let v1134 : BitVec 32 := Scalar.addi v1133 c64_i32_528
  let c1_i32_529 : BitVec 32 := 1#32
  let v1135 : BitVec 32 := Scalar.subi v1134 c1_i32_529
  let c0_i32_531 : BitVec 32 := 0#32
  let v1137 : BitVec 1 := Scalar.cmpi .sgt v1135 c0_i32_531
  let v1138 : BitVec 32 := Scalar.extui v1137
  let c0_i32_532 : BitVec 32 := 0#32
  let v1139 : BitVec 1 := Scalar.cmpi .slt v1135 c0_i32_532
  let v1140 : BitVec 32 := Scalar.extui v1139
  let v1141 : BitVec 32 := Scalar.subi v1138 v1140
  let c64_i32_530 : BitVec 32 := 64#32
  let c0_i32_533 : BitVec 32 := 0#32
  let v1142 : BitVec 1 := Scalar.cmpi .sgt c64_i32_530 c0_i32_533
  let v1143 : BitVec 32 := Scalar.extui v1142
  let c0_i32_534 : BitVec 32 := 0#32
  let v1144 : BitVec 1 := Scalar.cmpi .slt c64_i32_530 c0_i32_534
  let v1145 : BitVec 32 := Scalar.extui v1144
  let v1146 : BitVec 32 := Scalar.subi v1143 v1145
  let v1147 : BitVec 1 := Scalar.cmpi .ne v1141 v1146
  let v1148 : BitVec 32 := Scalar.remsi v1135 c64_i32_530
  let c0_i32_535 : BitVec 32 := 0#32
  let v1149 : BitVec 1 := Scalar.cmpi .ne v1148 c0_i32_535
  let v1150 : BitVec 1 := Scalar.andi v1147 v1149
  let v1136 : BitVec 32 := Scalar.divsi v1135 c64_i32_530
  let c1_i32_536 : BitVec 32 := 1#32
  let v1151 : BitVec 32 := Scalar.subi v1136 c1_i32_536
  let v1152 : BitVec 32 := Scalar.select v1150 v1151 v1136
  let c1_i32_539 : BitVec 32 := 1#32
  let v1156 : BitVec 32 := Scalar.addi v1152 c1_i32_539
  let c0_i32_541 : BitVec 32 := 0#32
  let v1158 : BitVec 1 := Scalar.cmpi .sgt v1156 c0_i32_541
  let v1159 : BitVec 32 := Scalar.extui v1158
  let c0_i32_542 : BitVec 32 := 0#32
  let v1160 : BitVec 1 := Scalar.cmpi .slt v1156 c0_i32_542
  let v1161 : BitVec 32 := Scalar.extui v1160
  let v1162 : BitVec 32 := Scalar.subi v1159 v1161
  let c2_i32_540 : BitVec 32 := 2#32
  let c0_i32_543 : BitVec 32 := 0#32
  let v1163 : BitVec 1 := Scalar.cmpi .sgt c2_i32_540 c0_i32_543
  let v1164 : BitVec 32 := Scalar.extui v1163
  let c0_i32_544 : BitVec 32 := 0#32
  let v1165 : BitVec 1 := Scalar.cmpi .slt c2_i32_540 c0_i32_544
  let v1166 : BitVec 32 := Scalar.extui v1165
  let v1167 : BitVec 32 := Scalar.subi v1164 v1166
  let v1168 : BitVec 1 := Scalar.cmpi .ne v1162 v1167
  let v1169 : BitVec 32 := Scalar.remsi v1156 c2_i32_540
  let c0_i32_545 : BitVec 32 := 0#32
  let v1170 : BitVec 1 := Scalar.cmpi .ne v1169 c0_i32_545
  let v1171 : BitVec 1 := Scalar.andi v1168 v1170
  let v1157 : BitVec 32 := Scalar.divsi v1156 c2_i32_540
  let c1_i32_546 : BitVec 32 := 1#32
  let v1172 : BitVec 32 := Scalar.subi v1157 c1_i32_546
  let v1173 : BitVec 32 := Scalar.select v1171 v1172 v1157
  let v1174 : BitVec 32 := Scalar.subi v1173 c0_i32_547
  let c1_i32_548 : BitVec 32 := 1#32
  let v1176 : BitVec 32 := Scalar.divsi v1174 c1_i32_548
  let v1177 : BitVec 32 := Scalar.muli v1176 c1_i32_548
  let v1178 : BitVec 32 := Scalar.addi c0_i32_547 v1177
  let c1_i32_550 : BitVec 32 := 1#32
  let arg13 : BitVec 32 := Scf.iv v1178 c1_i32_550 k1_t66
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1128 v2992
  let c64_i32_1430 : BitVec 32 := 64#32
  let v2994 : BitVec 32 := Scalar.muli v2988 c64_i32_1430
  let v2995 : BitVec 32 := Scalar.addi v1128 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1130 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t70
  let v3026 : BitVec 32 := Scalar.addi v3015 arg46
  let v3102 : Index := Scalar.indexCast v3026
  let c240_1461 : Index := 240#32
  ![v3102.toNat, 240]

def k1_chk7_0 (i : grid1.Coords) (v1128 : BitVec 32) (v1130 : BitVec 32) : Prop :=
  (∀ (k1_h55 : k1_cond55 v1128 v1130 = 1#1), ∀ a, (k1_off824 i v1128) a + S72x256.size a ≤ S100000x512.size a) ∧
  ((k1_t61_loop v1128 v1130).OK) ∧
  (∀ k1_t61 : Fin (k1_t61_loop v1128 v1130).trips, ∀ (k1_h56 : k1_cond56 v1128 v1130 k1_t61 = 1#1), ∀ a, (k1_off825 i v1128 v1130 k1_t61) a + S72x256.size a ≤ S100000x512.size a) ∧
  (∀ k1_t61 : Fin (k1_t61_loop v1128 v1130).trips, ∀ (k1_h56 : k1_cond56 v1128 v1130 k1_t61 = 1#1), ∀ (k1_h57 : k1_cond57 v1128 v1130 k1_t61 = 1#1), ∀ a, (k1_off826 i v1128 v1130 k1_t61) a + S72x256.size a ≤ S100000x512.size a) ∧
  (∀ k1_t61 : Fin (k1_t61_loop v1128 v1130).trips, (k1_t62_loop v1128 v1130 k1_t61).OK) ∧
  (∀ (k1_t61 : Fin (k1_t61_loop v1128 v1130).trips) (k1_t62 : Fin (k1_t62_loop v1128 v1130 k1_t61).trips), ∀ a, (k1_off827 v1128 v1130 k1_t61 k1_t62) a + S1x16.size a ≤ S72x256.size a) ∧
  (∀ (k1_t61 : Fin (k1_t61_loop v1128 v1130).trips) (k1_t62 : Fin (k1_t62_loop v1128 v1130 k1_t61).trips), ∀ a, (k1_off828 v1128 v1130 k1_t61 k1_t62) a + S1x16.size a ≤ S72x256.size a) ∧
  (∀ (k1_t61 : Fin (k1_t61_loop v1128 v1130).trips) (k1_t62 : Fin (k1_t62_loop v1128 v1130 k1_t61).trips), ∀ a, (k1_off829 v1128 v1130 k1_t61 k1_t62) a + S1x16.size a ≤ S72x256.size a) ∧
  (∀ (k1_t61 : Fin (k1_t61_loop v1128 v1130).trips) (k1_t62 : Fin (k1_t62_loop v1128 v1130 k1_t61).trips), ∀ a, (k1_off830 v1128 v1130 k1_t61 k1_t62) a + S1x16.size a ≤ S72x256.size a) ∧
  (∀ (k1_t61 : Fin (k1_t61_loop v1128 v1130).trips) (k1_t62 : Fin (k1_t62_loop v1128 v1130 k1_t61).trips), ∀ a, (k1_off831 v1128 v1130 k1_t61 k1_t62) a + S1x16.size a ≤ S72x256.size a) ∧
  (∀ (k1_t61 : Fin (k1_t61_loop v1128 v1130).trips) (k1_t62 : Fin (k1_t62_loop v1128 v1130 k1_t61).trips), ∀ a, (k1_off832 v1128 v1130 k1_t61 k1_t62) a + S1x16.size a ≤ S72x256.size a) ∧
  (∀ (k1_t61 : Fin (k1_t61_loop v1128 v1130).trips) (k1_t62 : Fin (k1_t62_loop v1128 v1130 k1_t61).trips), ∀ a, (k1_off833 v1128 v1130 k1_t61 k1_t62) a + S1x16.size a ≤ S72x256.size a) ∧
  (∀ (k1_t61 : Fin (k1_t61_loop v1128 v1130).trips) (k1_t62 : Fin (k1_t62_loop v1128 v1130 k1_t61).trips), ∀ a, (k1_off834 v1128 v1130 k1_t61 k1_t62) a + S1x16.size a ≤ S72x256.size a) ∧
  (∀ (k1_t61 : Fin (k1_t61_loop v1128 v1130).trips) (k1_t62 : Fin (k1_t62_loop v1128 v1130 k1_t61).trips), ∀ a, (k1_off835 v1128 v1130 k1_t61 k1_t62) a + S1x16.size a ≤ S72x256.size a) ∧
  (∀ (k1_t61 : Fin (k1_t61_loop v1128 v1130).trips) (k1_t62 : Fin (k1_t62_loop v1128 v1130 k1_t61).trips), ∀ a, (k1_off836 v1128 v1130 k1_t61 k1_t62) a + S1x16.size a ≤ S72x256.size a) ∧
  (∀ (k1_t61 : Fin (k1_t61_loop v1128 v1130).trips) (k1_t62 : Fin (k1_t62_loop v1128 v1130 k1_t61).trips), ∀ a, (k1_off837 v1128 v1130 k1_t61 k1_t62) a + S1x16.size a ≤ S72x256.size a) ∧
  (∀ (k1_t61 : Fin (k1_t61_loop v1128 v1130).trips) (k1_t62 : Fin (k1_t62_loop v1128 v1130 k1_t61).trips), ∀ a, (k1_off838 v1128 v1130 k1_t61 k1_t62) a + S1x16.size a ≤ S72x256.size a) ∧
  (∀ (k1_t61 : Fin (k1_t61_loop v1128 v1130).trips) (k1_t62 : Fin (k1_t62_loop v1128 v1130 k1_t61).trips), ∀ a, (k1_off839 v1128 v1130 k1_t61 k1_t62) a + S1x16.size a ≤ S72x256.size a) ∧
  (∀ (k1_t61 : Fin (k1_t61_loop v1128 v1130).trips) (k1_t62 : Fin (k1_t62_loop v1128 v1130 k1_t61).trips), ∀ a, (k1_off840 v1128 v1130 k1_t61 k1_t62) a + S1x16.size a ≤ S72x256.size a) ∧
  (∀ (k1_t61 : Fin (k1_t61_loop v1128 v1130).trips) (k1_t62 : Fin (k1_t62_loop v1128 v1130 k1_t61).trips), ∀ a, (k1_off841 v1128 v1130 k1_t61 k1_t62) a + S1x16.size a ≤ S72x256.size a) ∧
  (∀ (k1_t61 : Fin (k1_t61_loop v1128 v1130).trips) (k1_t62 : Fin (k1_t62_loop v1128 v1130 k1_t61).trips), ∀ a, (k1_off842 v1128 v1130 k1_t61 k1_t62) a + S1x16.size a ≤ S72x256.size a) ∧
  (∀ k1_t61 : Fin (k1_t61_loop v1128 v1130).trips, (k1_t63_loop v1128 v1130 k1_t61).OK) ∧
  (∀ (k1_t61 : Fin (k1_t61_loop v1128 v1130).trips) (k1_t63 : Fin (k1_t63_loop v1128 v1130 k1_t61).trips), ∀ a, (k1_off843 v1128 v1130 k1_t61 k1_t63) a + S1x16.size a ≤ S72x256.size a) ∧
  (∀ (k1_t61 : Fin (k1_t61_loop v1128 v1130).trips) (k1_t63 : Fin (k1_t63_loop v1128 v1130 k1_t61).trips), ∀ a, (k1_off844 v1128 v1130 k1_t61 k1_t63) a + S1x16.size a ≤ S72x256.size a) ∧
  (∀ (k1_t61 : Fin (k1_t61_loop v1128 v1130).trips) (k1_t63 : Fin (k1_t63_loop v1128 v1130 k1_t61).trips), ∀ a, (k1_off845 v1128 v1130 k1_t61 k1_t63) a + S1x16.size a ≤ S72x256.size a) ∧
  (∀ (k1_t61 : Fin (k1_t61_loop v1128 v1130).trips) (k1_t63 : Fin (k1_t63_loop v1128 v1130 k1_t61).trips), ∀ a, (k1_off846 v1128 v1130 k1_t61 k1_t63) a + S1x16.size a ≤ S72x256.size a) ∧
  (∀ (k1_t61 : Fin (k1_t61_loop v1128 v1130).trips) (k1_t63 : Fin (k1_t63_loop v1128 v1130 k1_t61).trips), ∀ a, (k1_off847 v1128 v1130 k1_t61 k1_t63) a + S1x16.size a ≤ S72x256.size a) ∧
  (∀ (k1_t61 : Fin (k1_t61_loop v1128 v1130).trips) (k1_t63 : Fin (k1_t63_loop v1128 v1130 k1_t61).trips), ∀ a, (k1_off848 v1128 v1130 k1_t61 k1_t63) a + S1x16.size a ≤ S72x256.size a) ∧
  (∀ (k1_t61 : Fin (k1_t61_loop v1128 v1130).trips) (k1_t63 : Fin (k1_t63_loop v1128 v1130 k1_t61).trips), ∀ a, (k1_off849 v1128 v1130 k1_t61 k1_t63) a + S1x16.size a ≤ S72x256.size a) ∧
  (∀ (k1_t61 : Fin (k1_t61_loop v1128 v1130).trips) (k1_t63 : Fin (k1_t63_loop v1128 v1130 k1_t61).trips), ∀ a, (k1_off850 v1128 v1130 k1_t61 k1_t63) a + S1x16.size a ≤ S72x256.size a) ∧
  (∀ (k1_t61 : Fin (k1_t61_loop v1128 v1130).trips) (k1_t63 : Fin (k1_t63_loop v1128 v1130 k1_t61).trips), ∀ a, (k1_off851 v1128 v1130 k1_t61 k1_t63) a + S1x16.size a ≤ S72x256.size a) ∧
  (∀ (k1_t61 : Fin (k1_t61_loop v1128 v1130).trips) (k1_t63 : Fin (k1_t63_loop v1128 v1130 k1_t61).trips), ∀ a, (k1_off852 v1128 v1130 k1_t61 k1_t63) a + S1x16.size a ≤ S72x256.size a)
def k1_chk7_1 (i : grid1.Coords) (v1128 : BitVec 32) (v1130 : BitVec 32) : Prop :=
  (∀ (k1_t61 : Fin (k1_t61_loop v1128 v1130).trips) (k1_t63 : Fin (k1_t63_loop v1128 v1130 k1_t61).trips), ∀ a, (k1_off853 v1128 v1130 k1_t61 k1_t63) a + S1x16.size a ≤ S72x256.size a) ∧
  (∀ (k1_t61 : Fin (k1_t61_loop v1128 v1130).trips) (k1_t63 : Fin (k1_t63_loop v1128 v1130 k1_t61).trips), ∀ a, (k1_off854 v1128 v1130 k1_t61 k1_t63) a + S1x16.size a ≤ S72x256.size a) ∧
  (∀ (k1_t61 : Fin (k1_t61_loop v1128 v1130).trips) (k1_t63 : Fin (k1_t63_loop v1128 v1130 k1_t61).trips), ∀ a, (k1_off855 v1128 v1130 k1_t61 k1_t63) a + S1x16.size a ≤ S72x256.size a) ∧
  (∀ (k1_t61 : Fin (k1_t61_loop v1128 v1130).trips) (k1_t63 : Fin (k1_t63_loop v1128 v1130 k1_t61).trips), ∀ a, (k1_off856 v1128 v1130 k1_t61 k1_t63) a + S1x16.size a ≤ S72x256.size a) ∧
  (∀ (k1_t61 : Fin (k1_t61_loop v1128 v1130).trips) (k1_t63 : Fin (k1_t63_loop v1128 v1130 k1_t61).trips), ∀ a, (k1_off857 v1128 v1130 k1_t61 k1_t63) a + S1x16.size a ≤ S72x256.size a) ∧
  (∀ (k1_t61 : Fin (k1_t61_loop v1128 v1130).trips) (k1_t63 : Fin (k1_t63_loop v1128 v1130 k1_t61).trips), ∀ a, (k1_off858 v1128 v1130 k1_t61 k1_t63) a + S1x16.size a ≤ S72x256.size a) ∧
  (∀ k1_t61 : Fin (k1_t61_loop v1128 v1130).trips, ∀ (k1_h58 : k1_cond58 v1128 v1130 k1_t61 = 1#1), ∀ a, (k1_off859 i v1128 v1130 k1_t61) a + S72x256.size a ≤ S100000x512.size a) ∧
  (∀ k1_t61 : Fin (k1_t61_loop v1128 v1130).trips, ∀ (k1_h58 : k1_cond58 v1128 v1130 k1_t61 = 1#1), ∀ (k1_h59 : k1_cond59 v1128 v1130 k1_t61 = 1#1), ∀ a, (k1_off860 i v1128 v1130 k1_t61) a + S72x256.size a ≤ S100000x512.size a) ∧
  (∀ k1_t61 : Fin (k1_t61_loop v1128 v1130).trips, (k1_t64_loop v1128 v1130 k1_t61).OK) ∧
  (∀ (k1_t61 : Fin (k1_t61_loop v1128 v1130).trips) (k1_t64 : Fin (k1_t64_loop v1128 v1130 k1_t61).trips), ∀ a, (k1_off861 v1128 v1130 k1_t61 k1_t64) a + S1x16.size a ≤ S72x256.size a) ∧
  (∀ (k1_t61 : Fin (k1_t61_loop v1128 v1130).trips) (k1_t64 : Fin (k1_t64_loop v1128 v1130 k1_t61).trips), ∀ a, (k1_off862 v1128 v1130 k1_t61 k1_t64) a + S1x16.size a ≤ S72x256.size a) ∧
  (∀ (k1_t61 : Fin (k1_t61_loop v1128 v1130).trips) (k1_t64 : Fin (k1_t64_loop v1128 v1130 k1_t61).trips), ∀ a, (k1_off863 v1128 v1130 k1_t61 k1_t64) a + S1x16.size a ≤ S72x256.size a) ∧
  (∀ (k1_t61 : Fin (k1_t61_loop v1128 v1130).trips) (k1_t64 : Fin (k1_t64_loop v1128 v1130 k1_t61).trips), ∀ a, (k1_off864 v1128 v1130 k1_t61 k1_t64) a + S1x16.size a ≤ S72x256.size a) ∧
  (∀ (k1_t61 : Fin (k1_t61_loop v1128 v1130).trips) (k1_t64 : Fin (k1_t64_loop v1128 v1130 k1_t61).trips), ∀ a, (k1_off865 v1128 v1130 k1_t61 k1_t64) a + S1x16.size a ≤ S72x256.size a) ∧
  (∀ (k1_t61 : Fin (k1_t61_loop v1128 v1130).trips) (k1_t64 : Fin (k1_t64_loop v1128 v1130 k1_t61).trips), ∀ a, (k1_off866 v1128 v1130 k1_t61 k1_t64) a + S1x16.size a ≤ S72x256.size a) ∧
  (∀ (k1_t61 : Fin (k1_t61_loop v1128 v1130).trips) (k1_t64 : Fin (k1_t64_loop v1128 v1130 k1_t61).trips), ∀ a, (k1_off867 v1128 v1130 k1_t61 k1_t64) a + S1x16.size a ≤ S72x256.size a) ∧
  (∀ (k1_t61 : Fin (k1_t61_loop v1128 v1130).trips) (k1_t64 : Fin (k1_t64_loop v1128 v1130 k1_t61).trips), ∀ a, (k1_off868 v1128 v1130 k1_t61 k1_t64) a + S1x16.size a ≤ S72x256.size a) ∧
  (∀ (k1_t61 : Fin (k1_t61_loop v1128 v1130).trips) (k1_t64 : Fin (k1_t64_loop v1128 v1130 k1_t61).trips), ∀ a, (k1_off869 v1128 v1130 k1_t61 k1_t64) a + S1x16.size a ≤ S72x256.size a) ∧
  (∀ (k1_t61 : Fin (k1_t61_loop v1128 v1130).trips) (k1_t64 : Fin (k1_t64_loop v1128 v1130 k1_t61).trips), ∀ a, (k1_off870 v1128 v1130 k1_t61 k1_t64) a + S1x16.size a ≤ S72x256.size a) ∧
  (∀ (k1_t61 : Fin (k1_t61_loop v1128 v1130).trips) (k1_t64 : Fin (k1_t64_loop v1128 v1130 k1_t61).trips), ∀ a, (k1_off871 v1128 v1130 k1_t61 k1_t64) a + S1x16.size a ≤ S72x256.size a) ∧
  (∀ (k1_t61 : Fin (k1_t61_loop v1128 v1130).trips) (k1_t64 : Fin (k1_t64_loop v1128 v1130 k1_t61).trips), ∀ a, (k1_off872 v1128 v1130 k1_t61 k1_t64) a + S1x16.size a ≤ S72x256.size a) ∧
  (∀ (k1_t61 : Fin (k1_t61_loop v1128 v1130).trips) (k1_t64 : Fin (k1_t64_loop v1128 v1130 k1_t61).trips), ∀ a, (k1_off873 v1128 v1130 k1_t61 k1_t64) a + S1x16.size a ≤ S72x256.size a) ∧
  (∀ (k1_t61 : Fin (k1_t61_loop v1128 v1130).trips) (k1_t64 : Fin (k1_t64_loop v1128 v1130 k1_t61).trips), ∀ a, (k1_off874 v1128 v1130 k1_t61 k1_t64) a + S1x16.size a ≤ S72x256.size a) ∧
  (∀ (k1_t61 : Fin (k1_t61_loop v1128 v1130).trips) (k1_t64 : Fin (k1_t64_loop v1128 v1130 k1_t61).trips), ∀ a, (k1_off875 v1128 v1130 k1_t61 k1_t64) a + S1x16.size a ≤ S72x256.size a) ∧
  (∀ (k1_t61 : Fin (k1_t61_loop v1128 v1130).trips) (k1_t64 : Fin (k1_t64_loop v1128 v1130 k1_t61).trips), ∀ a, (k1_off876 v1128 v1130 k1_t61 k1_t64) a + S1x16.size a ≤ S72x256.size a) ∧
  (∀ k1_t61 : Fin (k1_t61_loop v1128 v1130).trips, (k1_t65_loop v1128 v1130 k1_t61).OK) ∧
  (∀ (k1_t61 : Fin (k1_t61_loop v1128 v1130).trips) (k1_t65 : Fin (k1_t65_loop v1128 v1130 k1_t61).trips), ∀ a, (k1_off877 v1128 v1130 k1_t61 k1_t65) a + S1x16.size a ≤ S72x256.size a) ∧
  (∀ (k1_t61 : Fin (k1_t61_loop v1128 v1130).trips) (k1_t65 : Fin (k1_t65_loop v1128 v1130 k1_t61).trips), ∀ a, (k1_off878 v1128 v1130 k1_t61 k1_t65) a + S1x16.size a ≤ S72x256.size a) ∧
  (∀ (k1_t61 : Fin (k1_t61_loop v1128 v1130).trips) (k1_t65 : Fin (k1_t65_loop v1128 v1130 k1_t61).trips), ∀ a, (k1_off879 v1128 v1130 k1_t61 k1_t65) a + S1x16.size a ≤ S72x256.size a) ∧
  (∀ (k1_t61 : Fin (k1_t61_loop v1128 v1130).trips) (k1_t65 : Fin (k1_t65_loop v1128 v1130 k1_t61).trips), ∀ a, (k1_off880 v1128 v1130 k1_t61 k1_t65) a + S1x16.size a ≤ S72x256.size a) ∧
  (∀ (k1_t61 : Fin (k1_t61_loop v1128 v1130).trips) (k1_t65 : Fin (k1_t65_loop v1128 v1130 k1_t61).trips), ∀ a, (k1_off881 v1128 v1130 k1_t61 k1_t65) a + S1x16.size a ≤ S72x256.size a) ∧
  (∀ (k1_t61 : Fin (k1_t61_loop v1128 v1130).trips) (k1_t65 : Fin (k1_t65_loop v1128 v1130 k1_t61).trips), ∀ a, (k1_off882 v1128 v1130 k1_t61 k1_t65) a + S1x16.size a ≤ S72x256.size a)
def k1_chk7_2 (i : grid1.Coords) (v1128 : BitVec 32) (v1130 : BitVec 32) : Prop :=
  (∀ (k1_t61 : Fin (k1_t61_loop v1128 v1130).trips) (k1_t65 : Fin (k1_t65_loop v1128 v1130 k1_t61).trips), ∀ a, (k1_off883 v1128 v1130 k1_t61 k1_t65) a + S1x16.size a ≤ S72x256.size a) ∧
  (∀ (k1_t61 : Fin (k1_t61_loop v1128 v1130).trips) (k1_t65 : Fin (k1_t65_loop v1128 v1130 k1_t61).trips), ∀ a, (k1_off884 v1128 v1130 k1_t61 k1_t65) a + S1x16.size a ≤ S72x256.size a) ∧
  (∀ (k1_t61 : Fin (k1_t61_loop v1128 v1130).trips) (k1_t65 : Fin (k1_t65_loop v1128 v1130 k1_t61).trips), ∀ a, (k1_off885 v1128 v1130 k1_t61 k1_t65) a + S1x16.size a ≤ S72x256.size a) ∧
  (∀ (k1_t61 : Fin (k1_t61_loop v1128 v1130).trips) (k1_t65 : Fin (k1_t65_loop v1128 v1130 k1_t61).trips), ∀ a, (k1_off886 v1128 v1130 k1_t61 k1_t65) a + S1x16.size a ≤ S72x256.size a) ∧
  (∀ (k1_t61 : Fin (k1_t61_loop v1128 v1130).trips) (k1_t65 : Fin (k1_t65_loop v1128 v1130 k1_t61).trips), ∀ a, (k1_off887 v1128 v1130 k1_t61 k1_t65) a + S1x16.size a ≤ S72x256.size a) ∧
  (∀ (k1_t61 : Fin (k1_t61_loop v1128 v1130).trips) (k1_t65 : Fin (k1_t65_loop v1128 v1130 k1_t61).trips), ∀ a, (k1_off888 v1128 v1130 k1_t61 k1_t65) a + S1x16.size a ≤ S72x256.size a) ∧
  (∀ (k1_t61 : Fin (k1_t61_loop v1128 v1130).trips) (k1_t65 : Fin (k1_t65_loop v1128 v1130 k1_t61).trips), ∀ a, (k1_off889 v1128 v1130 k1_t61 k1_t65) a + S1x16.size a ≤ S72x256.size a) ∧
  (∀ (k1_t61 : Fin (k1_t61_loop v1128 v1130).trips) (k1_t65 : Fin (k1_t65_loop v1128 v1130 k1_t61).trips), ∀ a, (k1_off890 v1128 v1130 k1_t61 k1_t65) a + S1x16.size a ≤ S72x256.size a) ∧
  (∀ (k1_t61 : Fin (k1_t61_loop v1128 v1130).trips) (k1_t65 : Fin (k1_t65_loop v1128 v1130 k1_t61).trips), ∀ a, (k1_off891 v1128 v1130 k1_t61 k1_t65) a + S1x16.size a ≤ S72x256.size a) ∧
  (∀ (k1_t61 : Fin (k1_t61_loop v1128 v1130).trips) (k1_t65 : Fin (k1_t65_loop v1128 v1130 k1_t61).trips), ∀ a, (k1_off892 v1128 v1130 k1_t61 k1_t65) a + S1x16.size a ≤ S72x256.size a) ∧
  ((k1_t66_loop v1128 v1130).OK) ∧
  (∀ k1_t66 : Fin (k1_t66_loop v1128 v1130).trips, ∀ (k1_h60 : k1_cond60 v1128 v1130 k1_t66 = 1#1), ∀ a, (k1_off893 i v1128 v1130 k1_t66) a + S72x256.size a ≤ S100000x512.size a) ∧
  (∀ k1_t66 : Fin (k1_t66_loop v1128 v1130).trips, ∀ (k1_h60 : k1_cond60 v1128 v1130 k1_t66 = 1#1), ∀ (k1_h61 : k1_cond61 v1128 v1130 k1_t66 = 1#1), ∀ a, (k1_off894 i v1128 v1130 k1_t66) a + S72x256.size a ≤ S100000x512.size a) ∧
  (∀ k1_t66 : Fin (k1_t66_loop v1128 v1130).trips, (k1_t67_loop v1128 v1130 k1_t66).OK) ∧
  (∀ (k1_t66 : Fin (k1_t66_loop v1128 v1130).trips) (k1_t67 : Fin (k1_t67_loop v1128 v1130 k1_t66).trips), ∀ a, (k1_off895 v1128 v1130 k1_t66 k1_t67) a + S1x16.size a ≤ S72x256.size a) ∧
  (∀ (k1_t66 : Fin (k1_t66_loop v1128 v1130).trips) (k1_t67 : Fin (k1_t67_loop v1128 v1130 k1_t66).trips), ∀ a, (k1_off896 v1128 v1130 k1_t66 k1_t67) a + S1x16.size a ≤ S72x256.size a) ∧
  (∀ (k1_t66 : Fin (k1_t66_loop v1128 v1130).trips) (k1_t67 : Fin (k1_t67_loop v1128 v1130 k1_t66).trips), ∀ a, (k1_off897 v1128 v1130 k1_t66 k1_t67) a + S1x16.size a ≤ S72x256.size a) ∧
  (∀ (k1_t66 : Fin (k1_t66_loop v1128 v1130).trips) (k1_t67 : Fin (k1_t67_loop v1128 v1130 k1_t66).trips), ∀ a, (k1_off898 v1128 v1130 k1_t66 k1_t67) a + S1x16.size a ≤ S72x256.size a) ∧
  (∀ (k1_t66 : Fin (k1_t66_loop v1128 v1130).trips) (k1_t67 : Fin (k1_t67_loop v1128 v1130 k1_t66).trips), ∀ a, (k1_off899 v1128 v1130 k1_t66 k1_t67) a + S1x16.size a ≤ S72x256.size a) ∧
  (∀ (k1_t66 : Fin (k1_t66_loop v1128 v1130).trips) (k1_t67 : Fin (k1_t67_loop v1128 v1130 k1_t66).trips), ∀ a, (k1_off900 v1128 v1130 k1_t66 k1_t67) a + S1x16.size a ≤ S72x256.size a) ∧
  (∀ (k1_t66 : Fin (k1_t66_loop v1128 v1130).trips) (k1_t67 : Fin (k1_t67_loop v1128 v1130 k1_t66).trips), ∀ a, (k1_off901 v1128 v1130 k1_t66 k1_t67) a + S1x16.size a ≤ S72x256.size a) ∧
  (∀ (k1_t66 : Fin (k1_t66_loop v1128 v1130).trips) (k1_t67 : Fin (k1_t67_loop v1128 v1130 k1_t66).trips), ∀ a, (k1_off902 v1128 v1130 k1_t66 k1_t67) a + S1x16.size a ≤ S72x256.size a) ∧
  (∀ (k1_t66 : Fin (k1_t66_loop v1128 v1130).trips) (k1_t67 : Fin (k1_t67_loop v1128 v1130 k1_t66).trips), ∀ a, (k1_off903 v1128 v1130 k1_t66 k1_t67) a + S1x16.size a ≤ S72x256.size a) ∧
  (∀ (k1_t66 : Fin (k1_t66_loop v1128 v1130).trips) (k1_t67 : Fin (k1_t67_loop v1128 v1130 k1_t66).trips), ∀ a, (k1_off904 v1128 v1130 k1_t66 k1_t67) a + S1x16.size a ≤ S72x256.size a) ∧
  (∀ (k1_t66 : Fin (k1_t66_loop v1128 v1130).trips) (k1_t67 : Fin (k1_t67_loop v1128 v1130 k1_t66).trips), ∀ a, (k1_off905 v1128 v1130 k1_t66 k1_t67) a + S1x16.size a ≤ S72x256.size a) ∧
  (∀ (k1_t66 : Fin (k1_t66_loop v1128 v1130).trips) (k1_t67 : Fin (k1_t67_loop v1128 v1130 k1_t66).trips), ∀ a, (k1_off906 v1128 v1130 k1_t66 k1_t67) a + S1x16.size a ≤ S72x256.size a) ∧
  (∀ (k1_t66 : Fin (k1_t66_loop v1128 v1130).trips) (k1_t67 : Fin (k1_t67_loop v1128 v1130 k1_t66).trips), ∀ a, (k1_off907 v1128 v1130 k1_t66 k1_t67) a + S1x16.size a ≤ S72x256.size a) ∧
  (∀ (k1_t66 : Fin (k1_t66_loop v1128 v1130).trips) (k1_t67 : Fin (k1_t67_loop v1128 v1130 k1_t66).trips), ∀ a, (k1_off908 v1128 v1130 k1_t66 k1_t67) a + S1x16.size a ≤ S72x256.size a) ∧
  (∀ (k1_t66 : Fin (k1_t66_loop v1128 v1130).trips) (k1_t67 : Fin (k1_t67_loop v1128 v1130 k1_t66).trips), ∀ a, (k1_off909 v1128 v1130 k1_t66 k1_t67) a + S1x16.size a ≤ S72x256.size a) ∧
  (∀ (k1_t66 : Fin (k1_t66_loop v1128 v1130).trips) (k1_t67 : Fin (k1_t67_loop v1128 v1130 k1_t66).trips), ∀ a, (k1_off910 v1128 v1130 k1_t66 k1_t67) a + S1x16.size a ≤ S72x256.size a) ∧
  (∀ k1_t66 : Fin (k1_t66_loop v1128 v1130).trips, (k1_t68_loop v1128 v1130 k1_t66).OK) ∧
  (∀ (k1_t66 : Fin (k1_t66_loop v1128 v1130).trips) (k1_t68 : Fin (k1_t68_loop v1128 v1130 k1_t66).trips), ∀ a, (k1_off911 v1128 v1130 k1_t66 k1_t68) a + S1x16.size a ≤ S72x256.size a)
def k1_chk7_3 (i : grid1.Coords) (v1128 : BitVec 32) (v1130 : BitVec 32) : Prop :=
  (∀ (k1_t66 : Fin (k1_t66_loop v1128 v1130).trips) (k1_t68 : Fin (k1_t68_loop v1128 v1130 k1_t66).trips), ∀ a, (k1_off912 v1128 v1130 k1_t66 k1_t68) a + S1x16.size a ≤ S72x256.size a) ∧
  (∀ (k1_t66 : Fin (k1_t66_loop v1128 v1130).trips) (k1_t68 : Fin (k1_t68_loop v1128 v1130 k1_t66).trips), ∀ a, (k1_off913 v1128 v1130 k1_t66 k1_t68) a + S1x16.size a ≤ S72x256.size a) ∧
  (∀ (k1_t66 : Fin (k1_t66_loop v1128 v1130).trips) (k1_t68 : Fin (k1_t68_loop v1128 v1130 k1_t66).trips), ∀ a, (k1_off914 v1128 v1130 k1_t66 k1_t68) a + S1x16.size a ≤ S72x256.size a) ∧
  (∀ (k1_t66 : Fin (k1_t66_loop v1128 v1130).trips) (k1_t68 : Fin (k1_t68_loop v1128 v1130 k1_t66).trips), ∀ a, (k1_off915 v1128 v1130 k1_t66 k1_t68) a + S1x16.size a ≤ S72x256.size a) ∧
  (∀ (k1_t66 : Fin (k1_t66_loop v1128 v1130).trips) (k1_t68 : Fin (k1_t68_loop v1128 v1130 k1_t66).trips), ∀ a, (k1_off916 v1128 v1130 k1_t66 k1_t68) a + S1x16.size a ≤ S72x256.size a) ∧
  (∀ (k1_t66 : Fin (k1_t66_loop v1128 v1130).trips) (k1_t68 : Fin (k1_t68_loop v1128 v1130 k1_t66).trips), ∀ a, (k1_off917 v1128 v1130 k1_t66 k1_t68) a + S1x16.size a ≤ S72x256.size a) ∧
  (∀ (k1_t66 : Fin (k1_t66_loop v1128 v1130).trips) (k1_t68 : Fin (k1_t68_loop v1128 v1130 k1_t66).trips), ∀ a, (k1_off918 v1128 v1130 k1_t66 k1_t68) a + S1x16.size a ≤ S72x256.size a) ∧
  (∀ (k1_t66 : Fin (k1_t66_loop v1128 v1130).trips) (k1_t68 : Fin (k1_t68_loop v1128 v1130 k1_t66).trips), ∀ a, (k1_off919 v1128 v1130 k1_t66 k1_t68) a + S1x16.size a ≤ S72x256.size a) ∧
  (∀ (k1_t66 : Fin (k1_t66_loop v1128 v1130).trips) (k1_t68 : Fin (k1_t68_loop v1128 v1130 k1_t66).trips), ∀ a, (k1_off920 v1128 v1130 k1_t66 k1_t68) a + S1x16.size a ≤ S72x256.size a) ∧
  (∀ (k1_t66 : Fin (k1_t66_loop v1128 v1130).trips) (k1_t68 : Fin (k1_t68_loop v1128 v1130 k1_t66).trips), ∀ a, (k1_off921 v1128 v1130 k1_t66 k1_t68) a + S1x16.size a ≤ S72x256.size a) ∧
  (∀ (k1_t66 : Fin (k1_t66_loop v1128 v1130).trips) (k1_t68 : Fin (k1_t68_loop v1128 v1130 k1_t66).trips), ∀ a, (k1_off922 v1128 v1130 k1_t66 k1_t68) a + S1x16.size a ≤ S72x256.size a) ∧
  (∀ (k1_t66 : Fin (k1_t66_loop v1128 v1130).trips) (k1_t68 : Fin (k1_t68_loop v1128 v1130 k1_t66).trips), ∀ a, (k1_off923 v1128 v1130 k1_t66 k1_t68) a + S1x16.size a ≤ S72x256.size a) ∧
  (∀ (k1_t66 : Fin (k1_t66_loop v1128 v1130).trips) (k1_t68 : Fin (k1_t68_loop v1128 v1130 k1_t66).trips), ∀ a, (k1_off924 v1128 v1130 k1_t66 k1_t68) a + S1x16.size a ≤ S72x256.size a) ∧
  (∀ (k1_t66 : Fin (k1_t66_loop v1128 v1130).trips) (k1_t68 : Fin (k1_t68_loop v1128 v1130 k1_t66).trips), ∀ a, (k1_off925 v1128 v1130 k1_t66 k1_t68) a + S1x16.size a ≤ S72x256.size a) ∧
  (∀ (k1_t66 : Fin (k1_t66_loop v1128 v1130).trips) (k1_t68 : Fin (k1_t68_loop v1128 v1130 k1_t66).trips), ∀ a, (k1_off926 v1128 v1130 k1_t66 k1_t68) a + S1x16.size a ≤ S72x256.size a) ∧
  (∀ k1_t66 : Fin (k1_t66_loop v1128 v1130).trips, ∀ (k1_h62 : k1_cond62 v1128 v1130 k1_t66 = 1#1), ∀ a, (k1_off927 i v1128 v1130 k1_t66) a + S72x256.size a ≤ S100000x512.size a) ∧
  (∀ k1_t66 : Fin (k1_t66_loop v1128 v1130).trips, ∀ (k1_h62 : k1_cond62 v1128 v1130 k1_t66 = 1#1), ∀ (k1_h63 : k1_cond63 v1128 v1130 k1_t66 = 1#1), ∀ a, (k1_off928 i v1128 v1130 k1_t66) a + S72x256.size a ≤ S100000x512.size a) ∧
  (∀ k1_t66 : Fin (k1_t66_loop v1128 v1130).trips, (k1_t69_loop v1128 v1130 k1_t66).OK) ∧
  (∀ (k1_t66 : Fin (k1_t66_loop v1128 v1130).trips) (k1_t69 : Fin (k1_t69_loop v1128 v1130 k1_t66).trips), ∀ a, (k1_off929 v1128 v1130 k1_t66 k1_t69) a + S1x16.size a ≤ S72x256.size a) ∧
  (∀ (k1_t66 : Fin (k1_t66_loop v1128 v1130).trips) (k1_t69 : Fin (k1_t69_loop v1128 v1130 k1_t66).trips), ∀ a, (k1_off930 v1128 v1130 k1_t66 k1_t69) a + S1x16.size a ≤ S72x256.size a) ∧
  (∀ (k1_t66 : Fin (k1_t66_loop v1128 v1130).trips) (k1_t69 : Fin (k1_t69_loop v1128 v1130 k1_t66).trips), ∀ a, (k1_off931 v1128 v1130 k1_t66 k1_t69) a + S1x16.size a ≤ S72x256.size a) ∧
  (∀ (k1_t66 : Fin (k1_t66_loop v1128 v1130).trips) (k1_t69 : Fin (k1_t69_loop v1128 v1130 k1_t66).trips), ∀ a, (k1_off932 v1128 v1130 k1_t66 k1_t69) a + S1x16.size a ≤ S72x256.size a) ∧
  (∀ (k1_t66 : Fin (k1_t66_loop v1128 v1130).trips) (k1_t69 : Fin (k1_t69_loop v1128 v1130 k1_t66).trips), ∀ a, (k1_off933 v1128 v1130 k1_t66 k1_t69) a + S1x16.size a ≤ S72x256.size a) ∧
  (∀ (k1_t66 : Fin (k1_t66_loop v1128 v1130).trips) (k1_t69 : Fin (k1_t69_loop v1128 v1130 k1_t66).trips), ∀ a, (k1_off934 v1128 v1130 k1_t66 k1_t69) a + S1x16.size a ≤ S72x256.size a) ∧
  (∀ (k1_t66 : Fin (k1_t66_loop v1128 v1130).trips) (k1_t69 : Fin (k1_t69_loop v1128 v1130 k1_t66).trips), ∀ a, (k1_off935 v1128 v1130 k1_t66 k1_t69) a + S1x16.size a ≤ S72x256.size a) ∧
  (∀ (k1_t66 : Fin (k1_t66_loop v1128 v1130).trips) (k1_t69 : Fin (k1_t69_loop v1128 v1130 k1_t66).trips), ∀ a, (k1_off936 v1128 v1130 k1_t66 k1_t69) a + S1x16.size a ≤ S72x256.size a) ∧
  (∀ (k1_t66 : Fin (k1_t66_loop v1128 v1130).trips) (k1_t69 : Fin (k1_t69_loop v1128 v1130 k1_t66).trips), ∀ a, (k1_off937 v1128 v1130 k1_t66 k1_t69) a + S1x16.size a ≤ S72x256.size a) ∧
  (∀ (k1_t66 : Fin (k1_t66_loop v1128 v1130).trips) (k1_t69 : Fin (k1_t69_loop v1128 v1130 k1_t66).trips), ∀ a, (k1_off938 v1128 v1130 k1_t66 k1_t69) a + S1x16.size a ≤ S72x256.size a) ∧
  (∀ (k1_t66 : Fin (k1_t66_loop v1128 v1130).trips) (k1_t69 : Fin (k1_t69_loop v1128 v1130 k1_t66).trips), ∀ a, (k1_off939 v1128 v1130 k1_t66 k1_t69) a + S1x16.size a ≤ S72x256.size a) ∧
  (∀ (k1_t66 : Fin (k1_t66_loop v1128 v1130).trips) (k1_t69 : Fin (k1_t69_loop v1128 v1130 k1_t66).trips), ∀ a, (k1_off940 v1128 v1130 k1_t66 k1_t69) a + S1x16.size a ≤ S72x256.size a) ∧
  (∀ (k1_t66 : Fin (k1_t66_loop v1128 v1130).trips) (k1_t69 : Fin (k1_t69_loop v1128 v1130 k1_t66).trips), ∀ a, (k1_off941 v1128 v1130 k1_t66 k1_t69) a + S1x16.size a ≤ S72x256.size a) ∧
  (∀ (k1_t66 : Fin (k1_t66_loop v1128 v1130).trips) (k1_t69 : Fin (k1_t69_loop v1128 v1130 k1_t66).trips), ∀ a, (k1_off942 v1128 v1130 k1_t66 k1_t69) a + S1x16.size a ≤ S72x256.size a)
def k1_chk7_4 (i : grid1.Coords) (v1128 : BitVec 32) (v1130 : BitVec 32) : Prop :=
  (∀ (k1_t66 : Fin (k1_t66_loop v1128 v1130).trips) (k1_t69 : Fin (k1_t69_loop v1128 v1130 k1_t66).trips), ∀ a, (k1_off943 v1128 v1130 k1_t66 k1_t69) a + S1x16.size a ≤ S72x256.size a) ∧
  (∀ (k1_t66 : Fin (k1_t66_loop v1128 v1130).trips) (k1_t69 : Fin (k1_t69_loop v1128 v1130 k1_t66).trips), ∀ a, (k1_off944 v1128 v1130 k1_t66 k1_t69) a + S1x16.size a ≤ S72x256.size a) ∧
  (∀ k1_t66 : Fin (k1_t66_loop v1128 v1130).trips, (k1_t70_loop v1128 v1130 k1_t66).OK) ∧
  (∀ (k1_t66 : Fin (k1_t66_loop v1128 v1130).trips) (k1_t70 : Fin (k1_t70_loop v1128 v1130 k1_t66).trips), ∀ a, (k1_off945 v1128 v1130 k1_t66 k1_t70) a + S1x16.size a ≤ S72x256.size a) ∧
  (∀ (k1_t66 : Fin (k1_t66_loop v1128 v1130).trips) (k1_t70 : Fin (k1_t70_loop v1128 v1130 k1_t66).trips), ∀ a, (k1_off946 v1128 v1130 k1_t66 k1_t70) a + S1x16.size a ≤ S72x256.size a) ∧
  (∀ (k1_t66 : Fin (k1_t66_loop v1128 v1130).trips) (k1_t70 : Fin (k1_t70_loop v1128 v1130 k1_t66).trips), ∀ a, (k1_off947 v1128 v1130 k1_t66 k1_t70) a + S1x16.size a ≤ S72x256.size a) ∧
  (∀ (k1_t66 : Fin (k1_t66_loop v1128 v1130).trips) (k1_t70 : Fin (k1_t70_loop v1128 v1130 k1_t66).trips), ∀ a, (k1_off948 v1128 v1130 k1_t66 k1_t70) a + S1x16.size a ≤ S72x256.size a) ∧
  (∀ (k1_t66 : Fin (k1_t66_loop v1128 v1130).trips) (k1_t70 : Fin (k1_t70_loop v1128 v1130 k1_t66).trips), ∀ a, (k1_off949 v1128 v1130 k1_t66 k1_t70) a + S1x16.size a ≤ S72x256.size a) ∧
  (∀ (k1_t66 : Fin (k1_t66_loop v1128 v1130).trips) (k1_t70 : Fin (k1_t70_loop v1128 v1130 k1_t66).trips), ∀ a, (k1_off950 v1128 v1130 k1_t66 k1_t70) a + S1x16.size a ≤ S72x256.size a) ∧
  (∀ (k1_t66 : Fin (k1_t66_loop v1128 v1130).trips) (k1_t70 : Fin (k1_t70_loop v1128 v1130 k1_t66).trips), ∀ a, (k1_off951 v1128 v1130 k1_t66 k1_t70) a + S1x16.size a ≤ S72x256.size a) ∧
  (∀ (k1_t66 : Fin (k1_t66_loop v1128 v1130).trips) (k1_t70 : Fin (k1_t70_loop v1128 v1130 k1_t66).trips), ∀ a, (k1_off952 v1128 v1130 k1_t66 k1_t70) a + S1x16.size a ≤ S72x256.size a) ∧
  (∀ (k1_t66 : Fin (k1_t66_loop v1128 v1130).trips) (k1_t70 : Fin (k1_t70_loop v1128 v1130 k1_t66).trips), ∀ a, (k1_off953 v1128 v1130 k1_t66 k1_t70) a + S1x16.size a ≤ S72x256.size a) ∧
  (∀ (k1_t66 : Fin (k1_t66_loop v1128 v1130).trips) (k1_t70 : Fin (k1_t70_loop v1128 v1130 k1_t66).trips), ∀ a, (k1_off954 v1128 v1130 k1_t66 k1_t70) a + S1x16.size a ≤ S72x256.size a) ∧
  (∀ (k1_t66 : Fin (k1_t66_loop v1128 v1130).trips) (k1_t70 : Fin (k1_t70_loop v1128 v1130 k1_t66).trips), ∀ a, (k1_off955 v1128 v1130 k1_t66 k1_t70) a + S1x16.size a ≤ S72x256.size a) ∧
  (∀ (k1_t66 : Fin (k1_t66_loop v1128 v1130).trips) (k1_t70 : Fin (k1_t70_loop v1128 v1130 k1_t66).trips), ∀ a, (k1_off956 v1128 v1130 k1_t66 k1_t70) a + S1x16.size a ≤ S72x256.size a) ∧
  (∀ (k1_t66 : Fin (k1_t66_loop v1128 v1130).trips) (k1_t70 : Fin (k1_t70_loop v1128 v1130 k1_t66).trips), ∀ a, (k1_off957 v1128 v1130 k1_t66 k1_t70) a + S1x16.size a ≤ S72x256.size a) ∧
  (∀ (k1_t66 : Fin (k1_t66_loop v1128 v1130).trips) (k1_t70 : Fin (k1_t70_loop v1128 v1130 k1_t66).trips), ∀ a, (k1_off958 v1128 v1130 k1_t66 k1_t70) a + S1x16.size a ≤ S72x256.size a) ∧
  (∀ (k1_t66 : Fin (k1_t66_loop v1128 v1130).trips) (k1_t70 : Fin (k1_t70_loop v1128 v1130 k1_t66).trips), ∀ a, (k1_off959 v1128 v1130 k1_t66 k1_t70) a + S1x16.size a ≤ S72x256.size a) ∧
  (∀ (k1_t66 : Fin (k1_t66_loop v1128 v1130).trips) (k1_t70 : Fin (k1_t70_loop v1128 v1130 k1_t66).trips), ∀ a, (k1_off960 v1128 v1130 k1_t66 k1_t70) a + S1x16.size a ≤ S72x256.size a)
def k1_chk7 (i : grid1.Coords) (v1128 : BitVec 32) (v1130 : BitVec 32) : Prop :=
  k1_chk7_0 i v1128 v1130 ∧
  k1_chk7_1 i v1128 v1130 ∧
  k1_chk7_2 i v1128 v1130 ∧
  k1_chk7_3 i v1128 v1130 ∧
  k1_chk7_4 i v1128 v1130
theorem k1_off824_inb : ∀ (i : grid1.Coords) (v1128 : BitVec 32) (v1130 : BitVec 32) (k1_hw7 : k1_chk7 i v1128 v1130), ∀ (k1_h55 : k1_cond55 v1128 v1130 = 1#1), ∀ a, (k1_off824 i v1128) a + S72x256.size a ≤ S100000x512.size a := fun i v1128 v1130 k1_hw7 k1_h55 => k1_hw7.1.1 k1_h55
theorem k1_t61_ok : ∀ (i : grid1.Coords) (v1128 : BitVec 32) (v1130 : BitVec 32) (k1_hw7 : k1_chk7 i v1128 v1130), (k1_t61_loop v1128 v1130).OK := fun i v1128 v1130 k1_hw7 => k1_hw7.1.2.1
theorem k1_off825_inb : ∀ (i : grid1.Coords) (v1128 : BitVec 32) (v1130 : BitVec 32) (k1_hw7 : k1_chk7 i v1128 v1130) (k1_t61 : Fin (k1_t61_loop v1128 v1130).trips), ∀ (k1_h56 : k1_cond56 v1128 v1130 k1_t61 = 1#1), ∀ a, (k1_off825 i v1128 v1130 k1_t61) a + S72x256.size a ≤ S100000x512.size a := fun i v1128 v1130 k1_hw7 k1_t61 k1_h56 => k1_hw7.1.2.2.1 k1_t61 k1_h56
theorem k1_off826_inb : ∀ (i : grid1.Coords) (v1128 : BitVec 32) (v1130 : BitVec 32) (k1_hw7 : k1_chk7 i v1128 v1130) (k1_t61 : Fin (k1_t61_loop v1128 v1130).trips), ∀ (k1_h56 : k1_cond56 v1128 v1130 k1_t61 = 1#1), ∀ (k1_h57 : k1_cond57 v1128 v1130 k1_t61 = 1#1), ∀ a, (k1_off826 i v1128 v1130 k1_t61) a + S72x256.size a ≤ S100000x512.size a := fun i v1128 v1130 k1_hw7 k1_t61 k1_h56 k1_h57 => k1_hw7.1.2.2.2.1 k1_t61 k1_h56 k1_h57
theorem k1_t62_ok : ∀ (i : grid1.Coords) (v1128 : BitVec 32) (v1130 : BitVec 32) (k1_hw7 : k1_chk7 i v1128 v1130) (k1_t61 : Fin (k1_t61_loop v1128 v1130).trips), (k1_t62_loop v1128 v1130 k1_t61).OK := fun i v1128 v1130 k1_hw7 k1_t61 => k1_hw7.1.2.2.2.2.1 k1_t61
theorem k1_off827_inb : ∀ (i : grid1.Coords) (v1128 : BitVec 32) (v1130 : BitVec 32) (k1_hw7 : k1_chk7 i v1128 v1130) (k1_t61 : Fin (k1_t61_loop v1128 v1130).trips) (k1_t62 : Fin (k1_t62_loop v1128 v1130 k1_t61).trips), ∀ a, (k1_off827 v1128 v1130 k1_t61 k1_t62) a + S1x16.size a ≤ S72x256.size a := fun i v1128 v1130 k1_hw7 k1_t61 k1_t62 => k1_hw7.1.2.2.2.2.2.1 k1_t61 k1_t62
theorem k1_off828_inb : ∀ (i : grid1.Coords) (v1128 : BitVec 32) (v1130 : BitVec 32) (k1_hw7 : k1_chk7 i v1128 v1130) (k1_t61 : Fin (k1_t61_loop v1128 v1130).trips) (k1_t62 : Fin (k1_t62_loop v1128 v1130 k1_t61).trips), ∀ a, (k1_off828 v1128 v1130 k1_t61 k1_t62) a + S1x16.size a ≤ S72x256.size a := fun i v1128 v1130 k1_hw7 k1_t61 k1_t62 => k1_hw7.1.2.2.2.2.2.2.1 k1_t61 k1_t62
theorem k1_off829_inb : ∀ (i : grid1.Coords) (v1128 : BitVec 32) (v1130 : BitVec 32) (k1_hw7 : k1_chk7 i v1128 v1130) (k1_t61 : Fin (k1_t61_loop v1128 v1130).trips) (k1_t62 : Fin (k1_t62_loop v1128 v1130 k1_t61).trips), ∀ a, (k1_off829 v1128 v1130 k1_t61 k1_t62) a + S1x16.size a ≤ S72x256.size a := fun i v1128 v1130 k1_hw7 k1_t61 k1_t62 => k1_hw7.1.2.2.2.2.2.2.2.1 k1_t61 k1_t62
theorem k1_off830_inb : ∀ (i : grid1.Coords) (v1128 : BitVec 32) (v1130 : BitVec 32) (k1_hw7 : k1_chk7 i v1128 v1130) (k1_t61 : Fin (k1_t61_loop v1128 v1130).trips) (k1_t62 : Fin (k1_t62_loop v1128 v1130 k1_t61).trips), ∀ a, (k1_off830 v1128 v1130 k1_t61 k1_t62) a + S1x16.size a ≤ S72x256.size a := fun i v1128 v1130 k1_hw7 k1_t61 k1_t62 => k1_hw7.1.2.2.2.2.2.2.2.2.1 k1_t61 k1_t62
theorem k1_off831_inb : ∀ (i : grid1.Coords) (v1128 : BitVec 32) (v1130 : BitVec 32) (k1_hw7 : k1_chk7 i v1128 v1130) (k1_t61 : Fin (k1_t61_loop v1128 v1130).trips) (k1_t62 : Fin (k1_t62_loop v1128 v1130 k1_t61).trips), ∀ a, (k1_off831 v1128 v1130 k1_t61 k1_t62) a + S1x16.size a ≤ S72x256.size a := fun i v1128 v1130 k1_hw7 k1_t61 k1_t62 => k1_hw7.1.2.2.2.2.2.2.2.2.2.1 k1_t61 k1_t62
theorem k1_off832_inb : ∀ (i : grid1.Coords) (v1128 : BitVec 32) (v1130 : BitVec 32) (k1_hw7 : k1_chk7 i v1128 v1130) (k1_t61 : Fin (k1_t61_loop v1128 v1130).trips) (k1_t62 : Fin (k1_t62_loop v1128 v1130 k1_t61).trips), ∀ a, (k1_off832 v1128 v1130 k1_t61 k1_t62) a + S1x16.size a ≤ S72x256.size a := fun i v1128 v1130 k1_hw7 k1_t61 k1_t62 => k1_hw7.1.2.2.2.2.2.2.2.2.2.2.1 k1_t61 k1_t62
theorem k1_off833_inb : ∀ (i : grid1.Coords) (v1128 : BitVec 32) (v1130 : BitVec 32) (k1_hw7 : k1_chk7 i v1128 v1130) (k1_t61 : Fin (k1_t61_loop v1128 v1130).trips) (k1_t62 : Fin (k1_t62_loop v1128 v1130 k1_t61).trips), ∀ a, (k1_off833 v1128 v1130 k1_t61 k1_t62) a + S1x16.size a ≤ S72x256.size a := fun i v1128 v1130 k1_hw7 k1_t61 k1_t62 => k1_hw7.1.2.2.2.2.2.2.2.2.2.2.2.1 k1_t61 k1_t62
theorem k1_off834_inb : ∀ (i : grid1.Coords) (v1128 : BitVec 32) (v1130 : BitVec 32) (k1_hw7 : k1_chk7 i v1128 v1130) (k1_t61 : Fin (k1_t61_loop v1128 v1130).trips) (k1_t62 : Fin (k1_t62_loop v1128 v1130 k1_t61).trips), ∀ a, (k1_off834 v1128 v1130 k1_t61 k1_t62) a + S1x16.size a ≤ S72x256.size a := fun i v1128 v1130 k1_hw7 k1_t61 k1_t62 => k1_hw7.1.2.2.2.2.2.2.2.2.2.2.2.2.1 k1_t61 k1_t62
theorem k1_off835_inb : ∀ (i : grid1.Coords) (v1128 : BitVec 32) (v1130 : BitVec 32) (k1_hw7 : k1_chk7 i v1128 v1130) (k1_t61 : Fin (k1_t61_loop v1128 v1130).trips) (k1_t62 : Fin (k1_t62_loop v1128 v1130 k1_t61).trips), ∀ a, (k1_off835 v1128 v1130 k1_t61 k1_t62) a + S1x16.size a ≤ S72x256.size a := fun i v1128 v1130 k1_hw7 k1_t61 k1_t62 => k1_hw7.1.2.2.2.2.2.2.2.2.2.2.2.2.2.1 k1_t61 k1_t62
theorem k1_off836_inb : ∀ (i : grid1.Coords) (v1128 : BitVec 32) (v1130 : BitVec 32) (k1_hw7 : k1_chk7 i v1128 v1130) (k1_t61 : Fin (k1_t61_loop v1128 v1130).trips) (k1_t62 : Fin (k1_t62_loop v1128 v1130 k1_t61).trips), ∀ a, (k1_off836 v1128 v1130 k1_t61 k1_t62) a + S1x16.size a ≤ S72x256.size a := fun i v1128 v1130 k1_hw7 k1_t61 k1_t62 => k1_hw7.1.2.2.2.2.2.2.2.2.2.2.2.2.2.2.1 k1_t61 k1_t62
theorem k1_off837_inb : ∀ (i : grid1.Coords) (v1128 : BitVec 32) (v1130 : BitVec 32) (k1_hw7 : k1_chk7 i v1128 v1130) (k1_t61 : Fin (k1_t61_loop v1128 v1130).trips) (k1_t62 : Fin (k1_t62_loop v1128 v1130 k1_t61).trips), ∀ a, (k1_off837 v1128 v1130 k1_t61 k1_t62) a + S1x16.size a ≤ S72x256.size a := fun i v1128 v1130 k1_hw7 k1_t61 k1_t62 => k1_hw7.1.2.2.2.2.2.2.2.2.2.2.2.2.2.2.2.1 k1_t61 k1_t62
theorem k1_off838_inb : ∀ (i : grid1.Coords) (v1128 : BitVec 32) (v1130 : BitVec 32) (k1_hw7 : k1_chk7 i v1128 v1130) (k1_t61 : Fin (k1_t61_loop v1128 v1130).trips) (k1_t62 : Fin (k1_t62_loop v1128 v1130 k1_t61).trips), ∀ a, (k1_off838 v1128 v1130 k1_t61 k1_t62) a + S1x16.size a ≤ S72x256.size a := fun i v1128 v1130 k1_hw7 k1_t61 k1_t62 => k1_hw7.1.2.2.2.2.2.2.2.2.2.2.2.2.2.2.2.2.1 k1_t61 k1_t62
theorem k1_off839_inb : ∀ (i : grid1.Coords) (v1128 : BitVec 32) (v1130 : BitVec 32) (k1_hw7 : k1_chk7 i v1128 v1130) (k1_t61 : Fin (k1_t61_loop v1128 v1130).trips) (k1_t62 : Fin (k1_t62_loop v1128 v1130 k1_t61).trips), ∀ a, (k1_off839 v1128 v1130 k1_t61 k1_t62) a + S1x16.size a ≤ S72x256.size a := fun i v1128 v1130 k1_hw7 k1_t61 k1_t62 => k1_hw7.1.2.2.2.2.2.2.2.2.2.2.2.2.2.2.2.2.2.1 k1_t61 k1_t62
theorem k1_off840_inb : ∀ (i : grid1.Coords) (v1128 : BitVec 32) (v1130 : BitVec 32) (k1_hw7 : k1_chk7 i v1128 v1130) (k1_t61 : Fin (k1_t61_loop v1128 v1130).trips) (k1_t62 : Fin (k1_t62_loop v1128 v1130 k1_t61).trips), ∀ a, (k1_off840 v1128 v1130 k1_t61 k1_t62) a + S1x16.size a ≤ S72x256.size a := fun i v1128 v1130 k1_hw7 k1_t61 k1_t62 => k1_hw7.1.2.2.2.2.2.2.2.2.2.2.2.2.2.2.2.2.2.2.1 k1_t61 k1_t62
theorem k1_off841_inb : ∀ (i : grid1.Coords) (v1128 : BitVec 32) (v1130 : BitVec 32) (k1_hw7 : k1_chk7 i v1128 v1130) (k1_t61 : Fin (k1_t61_loop v1128 v1130).trips) (k1_t62 : Fin (k1_t62_loop v1128 v1130 k1_t61).trips), ∀ a, (k1_off841 v1128 v1130 k1_t61 k1_t62) a + S1x16.size a ≤ S72x256.size a := fun i v1128 v1130 k1_hw7 k1_t61 k1_t62 => k1_hw7.1.2.2.2.2.2.2.2.2.2.2.2.2.2.2.2.2.2.2.2.1 k1_t61 k1_t62
theorem k1_off842_inb : ∀ (i : grid1.Coords) (v1128 : BitVec 32) (v1130 : BitVec 32) (k1_hw7 : k1_chk7 i v1128 v1130) (k1_t61 : Fin (k1_t61_loop v1128 v1130).trips) (k1_t62 : Fin (k1_t62_loop v1128 v1130 k1_t61).trips), ∀ a, (k1_off842 v1128 v1130 k1_t61 k1_t62) a + S1x16.size a ≤ S72x256.size a := fun i v1128 v1130 k1_hw7 k1_t61 k1_t62 => k1_hw7.1.2.2.2.2.2.2.2.2.2.2.2.2.2.2.2.2.2.2.2.2.1 k1_t61 k1_t62
theorem k1_t63_ok : ∀ (i : grid1.Coords) (v1128 : BitVec 32) (v1130 : BitVec 32) (k1_hw7 : k1_chk7 i v1128 v1130) (k1_t61 : Fin (k1_t61_loop v1128 v1130).trips), (k1_t63_loop v1128 v1130 k1_t61).OK := fun i v1128 v1130 k1_hw7 k1_t61 => k1_hw7.1.2.2.2.2.2.2.2.2.2.2.2.2.2.2.2.2.2.2.2.2.2.1 k1_t61
theorem k1_off843_inb : ∀ (i : grid1.Coords) (v1128 : BitVec 32) (v1130 : BitVec 32) (k1_hw7 : k1_chk7 i v1128 v1130) (k1_t61 : Fin (k1_t61_loop v1128 v1130).trips) (k1_t63 : Fin (k1_t63_loop v1128 v1130 k1_t61).trips), ∀ a, (k1_off843 v1128 v1130 k1_t61 k1_t63) a + S1x16.size a ≤ S72x256.size a := fun i v1128 v1130 k1_hw7 k1_t61 k1_t63 => k1_hw7.1.2.2.2.2.2.2.2.2.2.2.2.2.2.2.2.2.2.2.2.2.2.2.1 k1_t61 k1_t63
theorem k1_off844_inb : ∀ (i : grid1.Coords) (v1128 : BitVec 32) (v1130 : BitVec 32) (k1_hw7 : k1_chk7 i v1128 v1130) (k1_t61 : Fin (k1_t61_loop v1128 v1130).trips) (k1_t63 : Fin (k1_t63_loop v1128 v1130 k1_t61).trips), ∀ a, (k1_off844 v1128 v1130 k1_t61 k1_t63) a + S1x16.size a ≤ S72x256.size a := fun i v1128 v1130 k1_hw7 k1_t61 k1_t63 => k1_hw7.1.2.2.2.2.2.2.2.2.2.2.2.2.2.2.2.2.2.2.2.2.2.2.2.1 k1_t61 k1_t63
theorem k1_off845_inb : ∀ (i : grid1.Coords) (v1128 : BitVec 32) (v1130 : BitVec 32) (k1_hw7 : k1_chk7 i v1128 v1130) (k1_t61 : Fin (k1_t61_loop v1128 v1130).trips) (k1_t63 : Fin (k1_t63_loop v1128 v1130 k1_t61).trips), ∀ a, (k1_off845 v1128 v1130 k1_t61 k1_t63) a + S1x16.size a ≤ S72x256.size a := fun i v1128 v1130 k1_hw7 k1_t61 k1_t63 => k1_hw7.1.2.2.2.2.2.2.2.2.2.2.2.2.2.2.2.2.2.2.2.2.2.2.2.2.1 k1_t61 k1_t63
theorem k1_off846_inb : ∀ (i : grid1.Coords) (v1128 : BitVec 32) (v1130 : BitVec 32) (k1_hw7 : k1_chk7 i v1128 v1130) (k1_t61 : Fin (k1_t61_loop v1128 v1130).trips) (k1_t63 : Fin (k1_t63_loop v1128 v1130 k1_t61).trips), ∀ a, (k1_off846 v1128 v1130 k1_t61 k1_t63) a + S1x16.size a ≤ S72x256.size a := fun i v1128 v1130 k1_hw7 k1_t61 k1_t63 => k1_hw7.1.2.2.2.2.2.2.2.2.2.2.2.2.2.2.2.2.2.2.2.2.2.2.2.2.2.1 k1_t61 k1_t63
theorem k1_off847_inb : ∀ (i : grid1.Coords) (v1128 : BitVec 32) (v1130 : BitVec 32) (k1_hw7 : k1_chk7 i v1128 v1130) (k1_t61 : Fin (k1_t61_loop v1128 v1130).trips) (k1_t63 : Fin (k1_t63_loop v1128 v1130 k1_t61).trips), ∀ a, (k1_off847 v1128 v1130 k1_t61 k1_t63) a + S1x16.size a ≤ S72x256.size a := fun i v1128 v1130 k1_hw7 k1_t61 k1_t63 => k1_hw7.1.2.2.2.2.2.2.2.2.2.2.2.2.2.2.2.2.2.2.2.2.2.2.2.2.2.2.1 k1_t61 k1_t63
theorem k1_off848_inb : ∀ (i : grid1.Coords) (v1128 : BitVec 32) (v1130 : BitVec 32) (k1_hw7 : k1_chk7 i v1128 v1130) (k1_t61 : Fin (k1_t61_loop v1128 v1130).trips) (k1_t63 : Fin (k1_t63_loop v1128 v1130 k1_t61).trips), ∀ a, (k1_off848 v1128 v1130 k1_t61 k1_t63) a + S1x16.size a ≤ S72x256.size a := fun i v1128 v1130 k1_hw7 k1_t61 k1_t63 => k1_hw7.1.2.2.2.2.2.2.2.2.2.2.2.2.2.2.2.2.2.2.2.2.2.2.2.2.2.2.2.1 k1_t61 k1_t63
theorem k1_off849_inb : ∀ (i : grid1.Coords) (v1128 : BitVec 32) (v1130 : BitVec 32) (k1_hw7 : k1_chk7 i v1128 v1130) (k1_t61 : Fin (k1_t61_loop v1128 v1130).trips) (k1_t63 : Fin (k1_t63_loop v1128 v1130 k1_t61).trips), ∀ a, (k1_off849 v1128 v1130 k1_t61 k1_t63) a + S1x16.size a ≤ S72x256.size a := fun i v1128 v1130 k1_hw7 k1_t61 k1_t63 => k1_hw7.1.2.2.2.2.2.2.2.2.2.2.2.2.2.2.2.2.2.2.2.2.2.2.2.2.2.2.2.2.1 k1_t61 k1_t63
theorem k1_off850_inb : ∀ (i : grid1.Coords) (v1128 : BitVec 32) (v1130 : BitVec 32) (k1_hw7 : k1_chk7 i v1128 v1130) (k1_t61 : Fin (k1_t61_loop v1128 v1130).trips) (k1_t63 : Fin (k1_t63_loop v1128 v1130 k1_t61).trips), ∀ a, (k1_off850 v1128 v1130 k1_t61 k1_t63) a + S1x16.size a ≤ S72x256.size a := fun i v1128 v1130 k1_hw7 k1_t61 k1_t63 => k1_hw7.1.2.2.2.2.2.2.2.2.2.2.2.2.2.2.2.2.2.2.2.2.2.2.2.2.2.2.2.2.2.1 k1_t61 k1_t63
theorem k1_off851_inb : ∀ (i : grid1.Coords) (v1128 : BitVec 32) (v1130 : BitVec 32) (k1_hw7 : k1_chk7 i v1128 v1130) (k1_t61 : Fin (k1_t61_loop v1128 v1130).trips) (k1_t63 : Fin (k1_t63_loop v1128 v1130 k1_t61).trips), ∀ a, (k1_off851 v1128 v1130 k1_t61 k1_t63) a + S1x16.size a ≤ S72x256.size a := fun i v1128 v1130 k1_hw7 k1_t61 k1_t63 => k1_hw7.1.2.2.2.2.2.2.2.2.2.2.2.2.2.2.2.2.2.2.2.2.2.2.2.2.2.2.2.2.2.2.1 k1_t61 k1_t63
theorem k1_off852_inb : ∀ (i : grid1.Coords) (v1128 : BitVec 32) (v1130 : BitVec 32) (k1_hw7 : k1_chk7 i v1128 v1130) (k1_t61 : Fin (k1_t61_loop v1128 v1130).trips) (k1_t63 : Fin (k1_t63_loop v1128 v1130 k1_t61).trips), ∀ a, (k1_off852 v1128 v1130 k1_t61 k1_t63) a + S1x16.size a ≤ S72x256.size a := fun i v1128 v1130 k1_hw7 k1_t61 k1_t63 => k1_hw7.1.2.2.2.2.2.2.2.2.2.2.2.2.2.2.2.2.2.2.2.2.2.2.2.2.2.2.2.2.2.2.2 k1_t61 k1_t63
theorem k1_off853_inb : ∀ (i : grid1.Coords) (v1128 : BitVec 32) (v1130 : BitVec 32) (k1_hw7 : k1_chk7 i v1128 v1130) (k1_t61 : Fin (k1_t61_loop v1128 v1130).trips) (k1_t63 : Fin (k1_t63_loop v1128 v1130 k1_t61).trips), ∀ a, (k1_off853 v1128 v1130 k1_t61 k1_t63) a + S1x16.size a ≤ S72x256.size a := fun i v1128 v1130 k1_hw7 k1_t61 k1_t63 => k1_hw7.2.1.1 k1_t61 k1_t63
theorem k1_off854_inb : ∀ (i : grid1.Coords) (v1128 : BitVec 32) (v1130 : BitVec 32) (k1_hw7 : k1_chk7 i v1128 v1130) (k1_t61 : Fin (k1_t61_loop v1128 v1130).trips) (k1_t63 : Fin (k1_t63_loop v1128 v1130 k1_t61).trips), ∀ a, (k1_off854 v1128 v1130 k1_t61 k1_t63) a + S1x16.size a ≤ S72x256.size a := fun i v1128 v1130 k1_hw7 k1_t61 k1_t63 => k1_hw7.2.1.2.1 k1_t61 k1_t63
theorem k1_off855_inb : ∀ (i : grid1.Coords) (v1128 : BitVec 32) (v1130 : BitVec 32) (k1_hw7 : k1_chk7 i v1128 v1130) (k1_t61 : Fin (k1_t61_loop v1128 v1130).trips) (k1_t63 : Fin (k1_t63_loop v1128 v1130 k1_t61).trips), ∀ a, (k1_off855 v1128 v1130 k1_t61 k1_t63) a + S1x16.size a ≤ S72x256.size a := fun i v1128 v1130 k1_hw7 k1_t61 k1_t63 => k1_hw7.2.1.2.2.1 k1_t61 k1_t63
theorem k1_off856_inb : ∀ (i : grid1.Coords) (v1128 : BitVec 32) (v1130 : BitVec 32) (k1_hw7 : k1_chk7 i v1128 v1130) (k1_t61 : Fin (k1_t61_loop v1128 v1130).trips) (k1_t63 : Fin (k1_t63_loop v1128 v1130 k1_t61).trips), ∀ a, (k1_off856 v1128 v1130 k1_t61 k1_t63) a + S1x16.size a ≤ S72x256.size a := fun i v1128 v1130 k1_hw7 k1_t61 k1_t63 => k1_hw7.2.1.2.2.2.1 k1_t61 k1_t63
theorem k1_off857_inb : ∀ (i : grid1.Coords) (v1128 : BitVec 32) (v1130 : BitVec 32) (k1_hw7 : k1_chk7 i v1128 v1130) (k1_t61 : Fin (k1_t61_loop v1128 v1130).trips) (k1_t63 : Fin (k1_t63_loop v1128 v1130 k1_t61).trips), ∀ a, (k1_off857 v1128 v1130 k1_t61 k1_t63) a + S1x16.size a ≤ S72x256.size a := fun i v1128 v1130 k1_hw7 k1_t61 k1_t63 => k1_hw7.2.1.2.2.2.2.1 k1_t61 k1_t63
theorem k1_off858_inb : ∀ (i : grid1.Coords) (v1128 : BitVec 32) (v1130 : BitVec 32) (k1_hw7 : k1_chk7 i v1128 v1130) (k1_t61 : Fin (k1_t61_loop v1128 v1130).trips) (k1_t63 : Fin (k1_t63_loop v1128 v1130 k1_t61).trips), ∀ a, (k1_off858 v1128 v1130 k1_t61 k1_t63) a + S1x16.size a ≤ S72x256.size a := fun i v1128 v1130 k1_hw7 k1_t61 k1_t63 => k1_hw7.2.1.2.2.2.2.2.1 k1_t61 k1_t63
theorem k1_off859_inb : ∀ (i : grid1.Coords) (v1128 : BitVec 32) (v1130 : BitVec 32) (k1_hw7 : k1_chk7 i v1128 v1130) (k1_t61 : Fin (k1_t61_loop v1128 v1130).trips), ∀ (k1_h58 : k1_cond58 v1128 v1130 k1_t61 = 1#1), ∀ a, (k1_off859 i v1128 v1130 k1_t61) a + S72x256.size a ≤ S100000x512.size a := fun i v1128 v1130 k1_hw7 k1_t61 k1_h58 => k1_hw7.2.1.2.2.2.2.2.2.1 k1_t61 k1_h58
theorem k1_off860_inb : ∀ (i : grid1.Coords) (v1128 : BitVec 32) (v1130 : BitVec 32) (k1_hw7 : k1_chk7 i v1128 v1130) (k1_t61 : Fin (k1_t61_loop v1128 v1130).trips), ∀ (k1_h58 : k1_cond58 v1128 v1130 k1_t61 = 1#1), ∀ (k1_h59 : k1_cond59 v1128 v1130 k1_t61 = 1#1), ∀ a, (k1_off860 i v1128 v1130 k1_t61) a + S72x256.size a ≤ S100000x512.size a := fun i v1128 v1130 k1_hw7 k1_t61 k1_h58 k1_h59 => k1_hw7.2.1.2.2.2.2.2.2.2.1 k1_t61 k1_h58 k1_h59
theorem k1_t64_ok : ∀ (i : grid1.Coords) (v1128 : BitVec 32) (v1130 : BitVec 32) (k1_hw7 : k1_chk7 i v1128 v1130) (k1_t61 : Fin (k1_t61_loop v1128 v1130).trips), (k1_t64_loop v1128 v1130 k1_t61).OK := fun i v1128 v1130 k1_hw7 k1_t61 => k1_hw7.2.1.2.2.2.2.2.2.2.2.1 k1_t61
theorem k1_off861_inb : ∀ (i : grid1.Coords) (v1128 : BitVec 32) (v1130 : BitVec 32) (k1_hw7 : k1_chk7 i v1128 v1130) (k1_t61 : Fin (k1_t61_loop v1128 v1130).trips) (k1_t64 : Fin (k1_t64_loop v1128 v1130 k1_t61).trips), ∀ a, (k1_off861 v1128 v1130 k1_t61 k1_t64) a + S1x16.size a ≤ S72x256.size a := fun i v1128 v1130 k1_hw7 k1_t61 k1_t64 => k1_hw7.2.1.2.2.2.2.2.2.2.2.2.1 k1_t61 k1_t64
theorem k1_off862_inb : ∀ (i : grid1.Coords) (v1128 : BitVec 32) (v1130 : BitVec 32) (k1_hw7 : k1_chk7 i v1128 v1130) (k1_t61 : Fin (k1_t61_loop v1128 v1130).trips) (k1_t64 : Fin (k1_t64_loop v1128 v1130 k1_t61).trips), ∀ a, (k1_off862 v1128 v1130 k1_t61 k1_t64) a + S1x16.size a ≤ S72x256.size a := fun i v1128 v1130 k1_hw7 k1_t61 k1_t64 => k1_hw7.2.1.2.2.2.2.2.2.2.2.2.2.1 k1_t61 k1_t64
theorem k1_off863_inb : ∀ (i : grid1.Coords) (v1128 : BitVec 32) (v1130 : BitVec 32) (k1_hw7 : k1_chk7 i v1128 v1130) (k1_t61 : Fin (k1_t61_loop v1128 v1130).trips) (k1_t64 : Fin (k1_t64_loop v1128 v1130 k1_t61).trips), ∀ a, (k1_off863 v1128 v1130 k1_t61 k1_t64) a + S1x16.size a ≤ S72x256.size a := fun i v1128 v1130 k1_hw7 k1_t61 k1_t64 => k1_hw7.2.1.2.2.2.2.2.2.2.2.2.2.2.1 k1_t61 k1_t64
theorem k1_off864_inb : ∀ (i : grid1.Coords) (v1128 : BitVec 32) (v1130 : BitVec 32) (k1_hw7 : k1_chk7 i v1128 v1130) (k1_t61 : Fin (k1_t61_loop v1128 v1130).trips) (k1_t64 : Fin (k1_t64_loop v1128 v1130 k1_t61).trips), ∀ a, (k1_off864 v1128 v1130 k1_t61 k1_t64) a + S1x16.size a ≤ S72x256.size a := fun i v1128 v1130 k1_hw7 k1_t61 k1_t64 => k1_hw7.2.1.2.2.2.2.2.2.2.2.2.2.2.2.1 k1_t61 k1_t64
theorem k1_off865_inb : ∀ (i : grid1.Coords) (v1128 : BitVec 32) (v1130 : BitVec 32) (k1_hw7 : k1_chk7 i v1128 v1130) (k1_t61 : Fin (k1_t61_loop v1128 v1130).trips) (k1_t64 : Fin (k1_t64_loop v1128 v1130 k1_t61).trips), ∀ a, (k1_off865 v1128 v1130 k1_t61 k1_t64) a + S1x16.size a ≤ S72x256.size a := fun i v1128 v1130 k1_hw7 k1_t61 k1_t64 => k1_hw7.2.1.2.2.2.2.2.2.2.2.2.2.2.2.2.1 k1_t61 k1_t64
theorem k1_off866_inb : ∀ (i : grid1.Coords) (v1128 : BitVec 32) (v1130 : BitVec 32) (k1_hw7 : k1_chk7 i v1128 v1130) (k1_t61 : Fin (k1_t61_loop v1128 v1130).trips) (k1_t64 : Fin (k1_t64_loop v1128 v1130 k1_t61).trips), ∀ a, (k1_off866 v1128 v1130 k1_t61 k1_t64) a + S1x16.size a ≤ S72x256.size a := fun i v1128 v1130 k1_hw7 k1_t61 k1_t64 => k1_hw7.2.1.2.2.2.2.2.2.2.2.2.2.2.2.2.2.1 k1_t61 k1_t64
theorem k1_off867_inb : ∀ (i : grid1.Coords) (v1128 : BitVec 32) (v1130 : BitVec 32) (k1_hw7 : k1_chk7 i v1128 v1130) (k1_t61 : Fin (k1_t61_loop v1128 v1130).trips) (k1_t64 : Fin (k1_t64_loop v1128 v1130 k1_t61).trips), ∀ a, (k1_off867 v1128 v1130 k1_t61 k1_t64) a + S1x16.size a ≤ S72x256.size a := fun i v1128 v1130 k1_hw7 k1_t61 k1_t64 => k1_hw7.2.1.2.2.2.2.2.2.2.2.2.2.2.2.2.2.2.1 k1_t61 k1_t64
theorem k1_off868_inb : ∀ (i : grid1.Coords) (v1128 : BitVec 32) (v1130 : BitVec 32) (k1_hw7 : k1_chk7 i v1128 v1130) (k1_t61 : Fin (k1_t61_loop v1128 v1130).trips) (k1_t64 : Fin (k1_t64_loop v1128 v1130 k1_t61).trips), ∀ a, (k1_off868 v1128 v1130 k1_t61 k1_t64) a + S1x16.size a ≤ S72x256.size a := fun i v1128 v1130 k1_hw7 k1_t61 k1_t64 => k1_hw7.2.1.2.2.2.2.2.2.2.2.2.2.2.2.2.2.2.2.1 k1_t61 k1_t64
theorem k1_off869_inb : ∀ (i : grid1.Coords) (v1128 : BitVec 32) (v1130 : BitVec 32) (k1_hw7 : k1_chk7 i v1128 v1130) (k1_t61 : Fin (k1_t61_loop v1128 v1130).trips) (k1_t64 : Fin (k1_t64_loop v1128 v1130 k1_t61).trips), ∀ a, (k1_off869 v1128 v1130 k1_t61 k1_t64) a + S1x16.size a ≤ S72x256.size a := fun i v1128 v1130 k1_hw7 k1_t61 k1_t64 => k1_hw7.2.1.2.2.2.2.2.2.2.2.2.2.2.2.2.2.2.2.2.1 k1_t61 k1_t64
theorem k1_off870_inb : ∀ (i : grid1.Coords) (v1128 : BitVec 32) (v1130 : BitVec 32) (k1_hw7 : k1_chk7 i v1128 v1130) (k1_t61 : Fin (k1_t61_loop v1128 v1130).trips) (k1_t64 : Fin (k1_t64_loop v1128 v1130 k1_t61).trips), ∀ a, (k1_off870 v1128 v1130 k1_t61 k1_t64) a + S1x16.size a ≤ S72x256.size a := fun i v1128 v1130 k1_hw7 k1_t61 k1_t64 => k1_hw7.2.1.2.2.2.2.2.2.2.2.2.2.2.2.2.2.2.2.2.2.1 k1_t61 k1_t64
theorem k1_off871_inb : ∀ (i : grid1.Coords) (v1128 : BitVec 32) (v1130 : BitVec 32) (k1_hw7 : k1_chk7 i v1128 v1130) (k1_t61 : Fin (k1_t61_loop v1128 v1130).trips) (k1_t64 : Fin (k1_t64_loop v1128 v1130 k1_t61).trips), ∀ a, (k1_off871 v1128 v1130 k1_t61 k1_t64) a + S1x16.size a ≤ S72x256.size a := fun i v1128 v1130 k1_hw7 k1_t61 k1_t64 => k1_hw7.2.1.2.2.2.2.2.2.2.2.2.2.2.2.2.2.2.2.2.2.2.1 k1_t61 k1_t64
theorem k1_off872_inb : ∀ (i : grid1.Coords) (v1128 : BitVec 32) (v1130 : BitVec 32) (k1_hw7 : k1_chk7 i v1128 v1130) (k1_t61 : Fin (k1_t61_loop v1128 v1130).trips) (k1_t64 : Fin (k1_t64_loop v1128 v1130 k1_t61).trips), ∀ a, (k1_off872 v1128 v1130 k1_t61 k1_t64) a + S1x16.size a ≤ S72x256.size a := fun i v1128 v1130 k1_hw7 k1_t61 k1_t64 => k1_hw7.2.1.2.2.2.2.2.2.2.2.2.2.2.2.2.2.2.2.2.2.2.2.1 k1_t61 k1_t64
theorem k1_off873_inb : ∀ (i : grid1.Coords) (v1128 : BitVec 32) (v1130 : BitVec 32) (k1_hw7 : k1_chk7 i v1128 v1130) (k1_t61 : Fin (k1_t61_loop v1128 v1130).trips) (k1_t64 : Fin (k1_t64_loop v1128 v1130 k1_t61).trips), ∀ a, (k1_off873 v1128 v1130 k1_t61 k1_t64) a + S1x16.size a ≤ S72x256.size a := fun i v1128 v1130 k1_hw7 k1_t61 k1_t64 => k1_hw7.2.1.2.2.2.2.2.2.2.2.2.2.2.2.2.2.2.2.2.2.2.2.2.1 k1_t61 k1_t64
theorem k1_off874_inb : ∀ (i : grid1.Coords) (v1128 : BitVec 32) (v1130 : BitVec 32) (k1_hw7 : k1_chk7 i v1128 v1130) (k1_t61 : Fin (k1_t61_loop v1128 v1130).trips) (k1_t64 : Fin (k1_t64_loop v1128 v1130 k1_t61).trips), ∀ a, (k1_off874 v1128 v1130 k1_t61 k1_t64) a + S1x16.size a ≤ S72x256.size a := fun i v1128 v1130 k1_hw7 k1_t61 k1_t64 => k1_hw7.2.1.2.2.2.2.2.2.2.2.2.2.2.2.2.2.2.2.2.2.2.2.2.2.1 k1_t61 k1_t64
theorem k1_off875_inb : ∀ (i : grid1.Coords) (v1128 : BitVec 32) (v1130 : BitVec 32) (k1_hw7 : k1_chk7 i v1128 v1130) (k1_t61 : Fin (k1_t61_loop v1128 v1130).trips) (k1_t64 : Fin (k1_t64_loop v1128 v1130 k1_t61).trips), ∀ a, (k1_off875 v1128 v1130 k1_t61 k1_t64) a + S1x16.size a ≤ S72x256.size a := fun i v1128 v1130 k1_hw7 k1_t61 k1_t64 => k1_hw7.2.1.2.2.2.2.2.2.2.2.2.2.2.2.2.2.2.2.2.2.2.2.2.2.2.1 k1_t61 k1_t64
theorem k1_off876_inb : ∀ (i : grid1.Coords) (v1128 : BitVec 32) (v1130 : BitVec 32) (k1_hw7 : k1_chk7 i v1128 v1130) (k1_t61 : Fin (k1_t61_loop v1128 v1130).trips) (k1_t64 : Fin (k1_t64_loop v1128 v1130 k1_t61).trips), ∀ a, (k1_off876 v1128 v1130 k1_t61 k1_t64) a + S1x16.size a ≤ S72x256.size a := fun i v1128 v1130 k1_hw7 k1_t61 k1_t64 => k1_hw7.2.1.2.2.2.2.2.2.2.2.2.2.2.2.2.2.2.2.2.2.2.2.2.2.2.2.1 k1_t61 k1_t64
theorem k1_t65_ok : ∀ (i : grid1.Coords) (v1128 : BitVec 32) (v1130 : BitVec 32) (k1_hw7 : k1_chk7 i v1128 v1130) (k1_t61 : Fin (k1_t61_loop v1128 v1130).trips), (k1_t65_loop v1128 v1130 k1_t61).OK := fun i v1128 v1130 k1_hw7 k1_t61 => k1_hw7.2.1.2.2.2.2.2.2.2.2.2.2.2.2.2.2.2.2.2.2.2.2.2.2.2.2.2.1 k1_t61
theorem k1_off877_inb : ∀ (i : grid1.Coords) (v1128 : BitVec 32) (v1130 : BitVec 32) (k1_hw7 : k1_chk7 i v1128 v1130) (k1_t61 : Fin (k1_t61_loop v1128 v1130).trips) (k1_t65 : Fin (k1_t65_loop v1128 v1130 k1_t61).trips), ∀ a, (k1_off877 v1128 v1130 k1_t61 k1_t65) a + S1x16.size a ≤ S72x256.size a := fun i v1128 v1130 k1_hw7 k1_t61 k1_t65 => k1_hw7.2.1.2.2.2.2.2.2.2.2.2.2.2.2.2.2.2.2.2.2.2.2.2.2.2.2.2.2.1 k1_t61 k1_t65
theorem k1_off878_inb : ∀ (i : grid1.Coords) (v1128 : BitVec 32) (v1130 : BitVec 32) (k1_hw7 : k1_chk7 i v1128 v1130) (k1_t61 : Fin (k1_t61_loop v1128 v1130).trips) (k1_t65 : Fin (k1_t65_loop v1128 v1130 k1_t61).trips), ∀ a, (k1_off878 v1128 v1130 k1_t61 k1_t65) a + S1x16.size a ≤ S72x256.size a := fun i v1128 v1130 k1_hw7 k1_t61 k1_t65 => k1_hw7.2.1.2.2.2.2.2.2.2.2.2.2.2.2.2.2.2.2.2.2.2.2.2.2.2.2.2.2.2.1 k1_t61 k1_t65
theorem k1_off879_inb : ∀ (i : grid1.Coords) (v1128 : BitVec 32) (v1130 : BitVec 32) (k1_hw7 : k1_chk7 i v1128 v1130) (k1_t61 : Fin (k1_t61_loop v1128 v1130).trips) (k1_t65 : Fin (k1_t65_loop v1128 v1130 k1_t61).trips), ∀ a, (k1_off879 v1128 v1130 k1_t61 k1_t65) a + S1x16.size a ≤ S72x256.size a := fun i v1128 v1130 k1_hw7 k1_t61 k1_t65 => k1_hw7.2.1.2.2.2.2.2.2.2.2.2.2.2.2.2.2.2.2.2.2.2.2.2.2.2.2.2.2.2.2.1 k1_t61 k1_t65
theorem k1_off880_inb : ∀ (i : grid1.Coords) (v1128 : BitVec 32) (v1130 : BitVec 32) (k1_hw7 : k1_chk7 i v1128 v1130) (k1_t61 : Fin (k1_t61_loop v1128 v1130).trips) (k1_t65 : Fin (k1_t65_loop v1128 v1130 k1_t61).trips), ∀ a, (k1_off880 v1128 v1130 k1_t61 k1_t65) a + S1x16.size a ≤ S72x256.size a := fun i v1128 v1130 k1_hw7 k1_t61 k1_t65 => k1_hw7.2.1.2.2.2.2.2.2.2.2.2.2.2.2.2.2.2.2.2.2.2.2.2.2.2.2.2.2.2.2.2.1 k1_t61 k1_t65
theorem k1_off881_inb : ∀ (i : grid1.Coords) (v1128 : BitVec 32) (v1130 : BitVec 32) (k1_hw7 : k1_chk7 i v1128 v1130) (k1_t61 : Fin (k1_t61_loop v1128 v1130).trips) (k1_t65 : Fin (k1_t65_loop v1128 v1130 k1_t61).trips), ∀ a, (k1_off881 v1128 v1130 k1_t61 k1_t65) a + S1x16.size a ≤ S72x256.size a := fun i v1128 v1130 k1_hw7 k1_t61 k1_t65 => k1_hw7.2.1.2.2.2.2.2.2.2.2.2.2.2.2.2.2.2.2.2.2.2.2.2.2.2.2.2.2.2.2.2.2.1 k1_t61 k1_t65
theorem k1_off882_inb : ∀ (i : grid1.Coords) (v1128 : BitVec 32) (v1130 : BitVec 32) (k1_hw7 : k1_chk7 i v1128 v1130) (k1_t61 : Fin (k1_t61_loop v1128 v1130).trips) (k1_t65 : Fin (k1_t65_loop v1128 v1130 k1_t61).trips), ∀ a, (k1_off882 v1128 v1130 k1_t61 k1_t65) a + S1x16.size a ≤ S72x256.size a := fun i v1128 v1130 k1_hw7 k1_t61 k1_t65 => k1_hw7.2.1.2.2.2.2.2.2.2.2.2.2.2.2.2.2.2.2.2.2.2.2.2.2.2.2.2.2.2.2.2.2.2 k1_t61 k1_t65
theorem k1_off883_inb : ∀ (i : grid1.Coords) (v1128 : BitVec 32) (v1130 : BitVec 32) (k1_hw7 : k1_chk7 i v1128 v1130) (k1_t61 : Fin (k1_t61_loop v1128 v1130).trips) (k1_t65 : Fin (k1_t65_loop v1128 v1130 k1_t61).trips), ∀ a, (k1_off883 v1128 v1130 k1_t61 k1_t65) a + S1x16.size a ≤ S72x256.size a := fun i v1128 v1130 k1_hw7 k1_t61 k1_t65 => k1_hw7.2.2.1.1 k1_t61 k1_t65
theorem k1_off884_inb : ∀ (i : grid1.Coords) (v1128 : BitVec 32) (v1130 : BitVec 32) (k1_hw7 : k1_chk7 i v1128 v1130) (k1_t61 : Fin (k1_t61_loop v1128 v1130).trips) (k1_t65 : Fin (k1_t65_loop v1128 v1130 k1_t61).trips), ∀ a, (k1_off884 v1128 v1130 k1_t61 k1_t65) a + S1x16.size a ≤ S72x256.size a := fun i v1128 v1130 k1_hw7 k1_t61 k1_t65 => k1_hw7.2.2.1.2.1 k1_t61 k1_t65
theorem k1_off885_inb : ∀ (i : grid1.Coords) (v1128 : BitVec 32) (v1130 : BitVec 32) (k1_hw7 : k1_chk7 i v1128 v1130) (k1_t61 : Fin (k1_t61_loop v1128 v1130).trips) (k1_t65 : Fin (k1_t65_loop v1128 v1130 k1_t61).trips), ∀ a, (k1_off885 v1128 v1130 k1_t61 k1_t65) a + S1x16.size a ≤ S72x256.size a := fun i v1128 v1130 k1_hw7 k1_t61 k1_t65 => k1_hw7.2.2.1.2.2.1 k1_t61 k1_t65
theorem k1_off886_inb : ∀ (i : grid1.Coords) (v1128 : BitVec 32) (v1130 : BitVec 32) (k1_hw7 : k1_chk7 i v1128 v1130) (k1_t61 : Fin (k1_t61_loop v1128 v1130).trips) (k1_t65 : Fin (k1_t65_loop v1128 v1130 k1_t61).trips), ∀ a, (k1_off886 v1128 v1130 k1_t61 k1_t65) a + S1x16.size a ≤ S72x256.size a := fun i v1128 v1130 k1_hw7 k1_t61 k1_t65 => k1_hw7.2.2.1.2.2.2.1 k1_t61 k1_t65
theorem k1_off887_inb : ∀ (i : grid1.Coords) (v1128 : BitVec 32) (v1130 : BitVec 32) (k1_hw7 : k1_chk7 i v1128 v1130) (k1_t61 : Fin (k1_t61_loop v1128 v1130).trips) (k1_t65 : Fin (k1_t65_loop v1128 v1130 k1_t61).trips), ∀ a, (k1_off887 v1128 v1130 k1_t61 k1_t65) a + S1x16.size a ≤ S72x256.size a := fun i v1128 v1130 k1_hw7 k1_t61 k1_t65 => k1_hw7.2.2.1.2.2.2.2.1 k1_t61 k1_t65
theorem k1_off888_inb : ∀ (i : grid1.Coords) (v1128 : BitVec 32) (v1130 : BitVec 32) (k1_hw7 : k1_chk7 i v1128 v1130) (k1_t61 : Fin (k1_t61_loop v1128 v1130).trips) (k1_t65 : Fin (k1_t65_loop v1128 v1130 k1_t61).trips), ∀ a, (k1_off888 v1128 v1130 k1_t61 k1_t65) a + S1x16.size a ≤ S72x256.size a := fun i v1128 v1130 k1_hw7 k1_t61 k1_t65 => k1_hw7.2.2.1.2.2.2.2.2.1 k1_t61 k1_t65
theorem k1_off889_inb : ∀ (i : grid1.Coords) (v1128 : BitVec 32) (v1130 : BitVec 32) (k1_hw7 : k1_chk7 i v1128 v1130) (k1_t61 : Fin (k1_t61_loop v1128 v1130).trips) (k1_t65 : Fin (k1_t65_loop v1128 v1130 k1_t61).trips), ∀ a, (k1_off889 v1128 v1130 k1_t61 k1_t65) a + S1x16.size a ≤ S72x256.size a := fun i v1128 v1130 k1_hw7 k1_t61 k1_t65 => k1_hw7.2.2.1.2.2.2.2.2.2.1 k1_t61 k1_t65
theorem k1_off890_inb : ∀ (i : grid1.Coords) (v1128 : BitVec 32) (v1130 : BitVec 32) (k1_hw7 : k1_chk7 i v1128 v1130) (k1_t61 : Fin (k1_t61_loop v1128 v1130).trips) (k1_t65 : Fin (k1_t65_loop v1128 v1130 k1_t61).trips), ∀ a, (k1_off890 v1128 v1130 k1_t61 k1_t65) a + S1x16.size a ≤ S72x256.size a := fun i v1128 v1130 k1_hw7 k1_t61 k1_t65 => k1_hw7.2.2.1.2.2.2.2.2.2.2.1 k1_t61 k1_t65
theorem k1_off891_inb : ∀ (i : grid1.Coords) (v1128 : BitVec 32) (v1130 : BitVec 32) (k1_hw7 : k1_chk7 i v1128 v1130) (k1_t61 : Fin (k1_t61_loop v1128 v1130).trips) (k1_t65 : Fin (k1_t65_loop v1128 v1130 k1_t61).trips), ∀ a, (k1_off891 v1128 v1130 k1_t61 k1_t65) a + S1x16.size a ≤ S72x256.size a := fun i v1128 v1130 k1_hw7 k1_t61 k1_t65 => k1_hw7.2.2.1.2.2.2.2.2.2.2.2.1 k1_t61 k1_t65
theorem k1_off892_inb : ∀ (i : grid1.Coords) (v1128 : BitVec 32) (v1130 : BitVec 32) (k1_hw7 : k1_chk7 i v1128 v1130) (k1_t61 : Fin (k1_t61_loop v1128 v1130).trips) (k1_t65 : Fin (k1_t65_loop v1128 v1130 k1_t61).trips), ∀ a, (k1_off892 v1128 v1130 k1_t61 k1_t65) a + S1x16.size a ≤ S72x256.size a := fun i v1128 v1130 k1_hw7 k1_t61 k1_t65 => k1_hw7.2.2.1.2.2.2.2.2.2.2.2.2.1 k1_t61 k1_t65
theorem k1_t66_ok : ∀ (i : grid1.Coords) (v1128 : BitVec 32) (v1130 : BitVec 32) (k1_hw7 : k1_chk7 i v1128 v1130), (k1_t66_loop v1128 v1130).OK := fun i v1128 v1130 k1_hw7 => k1_hw7.2.2.1.2.2.2.2.2.2.2.2.2.2.1
theorem k1_off893_inb : ∀ (i : grid1.Coords) (v1128 : BitVec 32) (v1130 : BitVec 32) (k1_hw7 : k1_chk7 i v1128 v1130) (k1_t66 : Fin (k1_t66_loop v1128 v1130).trips), ∀ (k1_h60 : k1_cond60 v1128 v1130 k1_t66 = 1#1), ∀ a, (k1_off893 i v1128 v1130 k1_t66) a + S72x256.size a ≤ S100000x512.size a := fun i v1128 v1130 k1_hw7 k1_t66 k1_h60 => k1_hw7.2.2.1.2.2.2.2.2.2.2.2.2.2.2.1 k1_t66 k1_h60
theorem k1_off894_inb : ∀ (i : grid1.Coords) (v1128 : BitVec 32) (v1130 : BitVec 32) (k1_hw7 : k1_chk7 i v1128 v1130) (k1_t66 : Fin (k1_t66_loop v1128 v1130).trips), ∀ (k1_h60 : k1_cond60 v1128 v1130 k1_t66 = 1#1), ∀ (k1_h61 : k1_cond61 v1128 v1130 k1_t66 = 1#1), ∀ a, (k1_off894 i v1128 v1130 k1_t66) a + S72x256.size a ≤ S100000x512.size a := fun i v1128 v1130 k1_hw7 k1_t66 k1_h60 k1_h61 => k1_hw7.2.2.1.2.2.2.2.2.2.2.2.2.2.2.2.1 k1_t66 k1_h60 k1_h61
theorem k1_t67_ok : ∀ (i : grid1.Coords) (v1128 : BitVec 32) (v1130 : BitVec 32) (k1_hw7 : k1_chk7 i v1128 v1130) (k1_t66 : Fin (k1_t66_loop v1128 v1130).trips), (k1_t67_loop v1128 v1130 k1_t66).OK := fun i v1128 v1130 k1_hw7 k1_t66 => k1_hw7.2.2.1.2.2.2.2.2.2.2.2.2.2.2.2.2.1 k1_t66
theorem k1_off895_inb : ∀ (i : grid1.Coords) (v1128 : BitVec 32) (v1130 : BitVec 32) (k1_hw7 : k1_chk7 i v1128 v1130) (k1_t66 : Fin (k1_t66_loop v1128 v1130).trips) (k1_t67 : Fin (k1_t67_loop v1128 v1130 k1_t66).trips), ∀ a, (k1_off895 v1128 v1130 k1_t66 k1_t67) a + S1x16.size a ≤ S72x256.size a := fun i v1128 v1130 k1_hw7 k1_t66 k1_t67 => k1_hw7.2.2.1.2.2.2.2.2.2.2.2.2.2.2.2.2.2.1 k1_t66 k1_t67
theorem k1_off896_inb : ∀ (i : grid1.Coords) (v1128 : BitVec 32) (v1130 : BitVec 32) (k1_hw7 : k1_chk7 i v1128 v1130) (k1_t66 : Fin (k1_t66_loop v1128 v1130).trips) (k1_t67 : Fin (k1_t67_loop v1128 v1130 k1_t66).trips), ∀ a, (k1_off896 v1128 v1130 k1_t66 k1_t67) a + S1x16.size a ≤ S72x256.size a := fun i v1128 v1130 k1_hw7 k1_t66 k1_t67 => k1_hw7.2.2.1.2.2.2.2.2.2.2.2.2.2.2.2.2.2.2.1 k1_t66 k1_t67
theorem k1_off897_inb : ∀ (i : grid1.Coords) (v1128 : BitVec 32) (v1130 : BitVec 32) (k1_hw7 : k1_chk7 i v1128 v1130) (k1_t66 : Fin (k1_t66_loop v1128 v1130).trips) (k1_t67 : Fin (k1_t67_loop v1128 v1130 k1_t66).trips), ∀ a, (k1_off897 v1128 v1130 k1_t66 k1_t67) a + S1x16.size a ≤ S72x256.size a := fun i v1128 v1130 k1_hw7 k1_t66 k1_t67 => k1_hw7.2.2.1.2.2.2.2.2.2.2.2.2.2.2.2.2.2.2.2.1 k1_t66 k1_t67
theorem k1_off898_inb : ∀ (i : grid1.Coords) (v1128 : BitVec 32) (v1130 : BitVec 32) (k1_hw7 : k1_chk7 i v1128 v1130) (k1_t66 : Fin (k1_t66_loop v1128 v1130).trips) (k1_t67 : Fin (k1_t67_loop v1128 v1130 k1_t66).trips), ∀ a, (k1_off898 v1128 v1130 k1_t66 k1_t67) a + S1x16.size a ≤ S72x256.size a := fun i v1128 v1130 k1_hw7 k1_t66 k1_t67 => k1_hw7.2.2.1.2.2.2.2.2.2.2.2.2.2.2.2.2.2.2.2.2.1 k1_t66 k1_t67
theorem k1_off899_inb : ∀ (i : grid1.Coords) (v1128 : BitVec 32) (v1130 : BitVec 32) (k1_hw7 : k1_chk7 i v1128 v1130) (k1_t66 : Fin (k1_t66_loop v1128 v1130).trips) (k1_t67 : Fin (k1_t67_loop v1128 v1130 k1_t66).trips), ∀ a, (k1_off899 v1128 v1130 k1_t66 k1_t67) a + S1x16.size a ≤ S72x256.size a := fun i v1128 v1130 k1_hw7 k1_t66 k1_t67 => k1_hw7.2.2.1.2.2.2.2.2.2.2.2.2.2.2.2.2.2.2.2.2.2.1 k1_t66 k1_t67
theorem k1_off900_inb : ∀ (i : grid1.Coords) (v1128 : BitVec 32) (v1130 : BitVec 32) (k1_hw7 : k1_chk7 i v1128 v1130) (k1_t66 : Fin (k1_t66_loop v1128 v1130).trips) (k1_t67 : Fin (k1_t67_loop v1128 v1130 k1_t66).trips), ∀ a, (k1_off900 v1128 v1130 k1_t66 k1_t67) a + S1x16.size a ≤ S72x256.size a := fun i v1128 v1130 k1_hw7 k1_t66 k1_t67 => k1_hw7.2.2.1.2.2.2.2.2.2.2.2.2.2.2.2.2.2.2.2.2.2.2.1 k1_t66 k1_t67
theorem k1_off901_inb : ∀ (i : grid1.Coords) (v1128 : BitVec 32) (v1130 : BitVec 32) (k1_hw7 : k1_chk7 i v1128 v1130) (k1_t66 : Fin (k1_t66_loop v1128 v1130).trips) (k1_t67 : Fin (k1_t67_loop v1128 v1130 k1_t66).trips), ∀ a, (k1_off901 v1128 v1130 k1_t66 k1_t67) a + S1x16.size a ≤ S72x256.size a := fun i v1128 v1130 k1_hw7 k1_t66 k1_t67 => k1_hw7.2.2.1.2.2.2.2.2.2.2.2.2.2.2.2.2.2.2.2.2.2.2.2.1 k1_t66 k1_t67
theorem k1_off902_inb : ∀ (i : grid1.Coords) (v1128 : BitVec 32) (v1130 : BitVec 32) (k1_hw7 : k1_chk7 i v1128 v1130) (k1_t66 : Fin (k1_t66_loop v1128 v1130).trips) (k1_t67 : Fin (k1_t67_loop v1128 v1130 k1_t66).trips), ∀ a, (k1_off902 v1128 v1130 k1_t66 k1_t67) a + S1x16.size a ≤ S72x256.size a := fun i v1128 v1130 k1_hw7 k1_t66 k1_t67 => k1_hw7.2.2.1.2.2.2.2.2.2.2.2.2.2.2.2.2.2.2.2.2.2.2.2.2.1 k1_t66 k1_t67
theorem k1_off903_inb : ∀ (i : grid1.Coords) (v1128 : BitVec 32) (v1130 : BitVec 32) (k1_hw7 : k1_chk7 i v1128 v1130) (k1_t66 : Fin (k1_t66_loop v1128 v1130).trips) (k1_t67 : Fin (k1_t67_loop v1128 v1130 k1_t66).trips), ∀ a, (k1_off903 v1128 v1130 k1_t66 k1_t67) a + S1x16.size a ≤ S72x256.size a := fun i v1128 v1130 k1_hw7 k1_t66 k1_t67 => k1_hw7.2.2.1.2.2.2.2.2.2.2.2.2.2.2.2.2.2.2.2.2.2.2.2.2.2.1 k1_t66 k1_t67
theorem k1_off904_inb : ∀ (i : grid1.Coords) (v1128 : BitVec 32) (v1130 : BitVec 32) (k1_hw7 : k1_chk7 i v1128 v1130) (k1_t66 : Fin (k1_t66_loop v1128 v1130).trips) (k1_t67 : Fin (k1_t67_loop v1128 v1130 k1_t66).trips), ∀ a, (k1_off904 v1128 v1130 k1_t66 k1_t67) a + S1x16.size a ≤ S72x256.size a := fun i v1128 v1130 k1_hw7 k1_t66 k1_t67 => k1_hw7.2.2.1.2.2.2.2.2.2.2.2.2.2.2.2.2.2.2.2.2.2.2.2.2.2.2.1 k1_t66 k1_t67
theorem k1_off905_inb : ∀ (i : grid1.Coords) (v1128 : BitVec 32) (v1130 : BitVec 32) (k1_hw7 : k1_chk7 i v1128 v1130) (k1_t66 : Fin (k1_t66_loop v1128 v1130).trips) (k1_t67 : Fin (k1_t67_loop v1128 v1130 k1_t66).trips), ∀ a, (k1_off905 v1128 v1130 k1_t66 k1_t67) a + S1x16.size a ≤ S72x256.size a := fun i v1128 v1130 k1_hw7 k1_t66 k1_t67 => k1_hw7.2.2.1.2.2.2.2.2.2.2.2.2.2.2.2.2.2.2.2.2.2.2.2.2.2.2.2.1 k1_t66 k1_t67
theorem k1_off906_inb : ∀ (i : grid1.Coords) (v1128 : BitVec 32) (v1130 : BitVec 32) (k1_hw7 : k1_chk7 i v1128 v1130) (k1_t66 : Fin (k1_t66_loop v1128 v1130).trips) (k1_t67 : Fin (k1_t67_loop v1128 v1130 k1_t66).trips), ∀ a, (k1_off906 v1128 v1130 k1_t66 k1_t67) a + S1x16.size a ≤ S72x256.size a := fun i v1128 v1130 k1_hw7 k1_t66 k1_t67 => k1_hw7.2.2.1.2.2.2.2.2.2.2.2.2.2.2.2.2.2.2.2.2.2.2.2.2.2.2.2.2.1 k1_t66 k1_t67
theorem k1_off907_inb : ∀ (i : grid1.Coords) (v1128 : BitVec 32) (v1130 : BitVec 32) (k1_hw7 : k1_chk7 i v1128 v1130) (k1_t66 : Fin (k1_t66_loop v1128 v1130).trips) (k1_t67 : Fin (k1_t67_loop v1128 v1130 k1_t66).trips), ∀ a, (k1_off907 v1128 v1130 k1_t66 k1_t67) a + S1x16.size a ≤ S72x256.size a := fun i v1128 v1130 k1_hw7 k1_t66 k1_t67 => k1_hw7.2.2.1.2.2.2.2.2.2.2.2.2.2.2.2.2.2.2.2.2.2.2.2.2.2.2.2.2.2.1 k1_t66 k1_t67
theorem k1_off908_inb : ∀ (i : grid1.Coords) (v1128 : BitVec 32) (v1130 : BitVec 32) (k1_hw7 : k1_chk7 i v1128 v1130) (k1_t66 : Fin (k1_t66_loop v1128 v1130).trips) (k1_t67 : Fin (k1_t67_loop v1128 v1130 k1_t66).trips), ∀ a, (k1_off908 v1128 v1130 k1_t66 k1_t67) a + S1x16.size a ≤ S72x256.size a := fun i v1128 v1130 k1_hw7 k1_t66 k1_t67 => k1_hw7.2.2.1.2.2.2.2.2.2.2.2.2.2.2.2.2.2.2.2.2.2.2.2.2.2.2.2.2.2.2.1 k1_t66 k1_t67
theorem k1_off909_inb : ∀ (i : grid1.Coords) (v1128 : BitVec 32) (v1130 : BitVec 32) (k1_hw7 : k1_chk7 i v1128 v1130) (k1_t66 : Fin (k1_t66_loop v1128 v1130).trips) (k1_t67 : Fin (k1_t67_loop v1128 v1130 k1_t66).trips), ∀ a, (k1_off909 v1128 v1130 k1_t66 k1_t67) a + S1x16.size a ≤ S72x256.size a := fun i v1128 v1130 k1_hw7 k1_t66 k1_t67 => k1_hw7.2.2.1.2.2.2.2.2.2.2.2.2.2.2.2.2.2.2.2.2.2.2.2.2.2.2.2.2.2.2.2.1 k1_t66 k1_t67
theorem k1_off910_inb : ∀ (i : grid1.Coords) (v1128 : BitVec 32) (v1130 : BitVec 32) (k1_hw7 : k1_chk7 i v1128 v1130) (k1_t66 : Fin (k1_t66_loop v1128 v1130).trips) (k1_t67 : Fin (k1_t67_loop v1128 v1130 k1_t66).trips), ∀ a, (k1_off910 v1128 v1130 k1_t66 k1_t67) a + S1x16.size a ≤ S72x256.size a := fun i v1128 v1130 k1_hw7 k1_t66 k1_t67 => k1_hw7.2.2.1.2.2.2.2.2.2.2.2.2.2.2.2.2.2.2.2.2.2.2.2.2.2.2.2.2.2.2.2.2.1 k1_t66 k1_t67
theorem k1_t68_ok : ∀ (i : grid1.Coords) (v1128 : BitVec 32) (v1130 : BitVec 32) (k1_hw7 : k1_chk7 i v1128 v1130) (k1_t66 : Fin (k1_t66_loop v1128 v1130).trips), (k1_t68_loop v1128 v1130 k1_t66).OK := fun i v1128 v1130 k1_hw7 k1_t66 => k1_hw7.2.2.1.2.2.2.2.2.2.2.2.2.2.2.2.2.2.2.2.2.2.2.2.2.2.2.2.2.2.2.2.2.2.1 k1_t66
theorem k1_off911_inb : ∀ (i : grid1.Coords) (v1128 : BitVec 32) (v1130 : BitVec 32) (k1_hw7 : k1_chk7 i v1128 v1130) (k1_t66 : Fin (k1_t66_loop v1128 v1130).trips) (k1_t68 : Fin (k1_t68_loop v1128 v1130 k1_t66).trips), ∀ a, (k1_off911 v1128 v1130 k1_t66 k1_t68) a + S1x16.size a ≤ S72x256.size a := fun i v1128 v1130 k1_hw7 k1_t66 k1_t68 => k1_hw7.2.2.1.2.2.2.2.2.2.2.2.2.2.2.2.2.2.2.2.2.2.2.2.2.2.2.2.2.2.2.2.2.2.2 k1_t66 k1_t68
theorem k1_off912_inb : ∀ (i : grid1.Coords) (v1128 : BitVec 32) (v1130 : BitVec 32) (k1_hw7 : k1_chk7 i v1128 v1130) (k1_t66 : Fin (k1_t66_loop v1128 v1130).trips) (k1_t68 : Fin (k1_t68_loop v1128 v1130 k1_t66).trips), ∀ a, (k1_off912 v1128 v1130 k1_t66 k1_t68) a + S1x16.size a ≤ S72x256.size a := fun i v1128 v1130 k1_hw7 k1_t66 k1_t68 => k1_hw7.2.2.2.1.1 k1_t66 k1_t68
theorem k1_off913_inb : ∀ (i : grid1.Coords) (v1128 : BitVec 32) (v1130 : BitVec 32) (k1_hw7 : k1_chk7 i v1128 v1130) (k1_t66 : Fin (k1_t66_loop v1128 v1130).trips) (k1_t68 : Fin (k1_t68_loop v1128 v1130 k1_t66).trips), ∀ a, (k1_off913 v1128 v1130 k1_t66 k1_t68) a + S1x16.size a ≤ S72x256.size a := fun i v1128 v1130 k1_hw7 k1_t66 k1_t68 => k1_hw7.2.2.2.1.2.1 k1_t66 k1_t68
theorem k1_off914_inb : ∀ (i : grid1.Coords) (v1128 : BitVec 32) (v1130 : BitVec 32) (k1_hw7 : k1_chk7 i v1128 v1130) (k1_t66 : Fin (k1_t66_loop v1128 v1130).trips) (k1_t68 : Fin (k1_t68_loop v1128 v1130 k1_t66).trips), ∀ a, (k1_off914 v1128 v1130 k1_t66 k1_t68) a + S1x16.size a ≤ S72x256.size a := fun i v1128 v1130 k1_hw7 k1_t66 k1_t68 => k1_hw7.2.2.2.1.2.2.1 k1_t66 k1_t68
theorem k1_off915_inb : ∀ (i : grid1.Coords) (v1128 : BitVec 32) (v1130 : BitVec 32) (k1_hw7 : k1_chk7 i v1128 v1130) (k1_t66 : Fin (k1_t66_loop v1128 v1130).trips) (k1_t68 : Fin (k1_t68_loop v1128 v1130 k1_t66).trips), ∀ a, (k1_off915 v1128 v1130 k1_t66 k1_t68) a + S1x16.size a ≤ S72x256.size a := fun i v1128 v1130 k1_hw7 k1_t66 k1_t68 => k1_hw7.2.2.2.1.2.2.2.1 k1_t66 k1_t68
theorem k1_off916_inb : ∀ (i : grid1.Coords) (v1128 : BitVec 32) (v1130 : BitVec 32) (k1_hw7 : k1_chk7 i v1128 v1130) (k1_t66 : Fin (k1_t66_loop v1128 v1130).trips) (k1_t68 : Fin (k1_t68_loop v1128 v1130 k1_t66).trips), ∀ a, (k1_off916 v1128 v1130 k1_t66 k1_t68) a + S1x16.size a ≤ S72x256.size a := fun i v1128 v1130 k1_hw7 k1_t66 k1_t68 => k1_hw7.2.2.2.1.2.2.2.2.1 k1_t66 k1_t68
theorem k1_off917_inb : ∀ (i : grid1.Coords) (v1128 : BitVec 32) (v1130 : BitVec 32) (k1_hw7 : k1_chk7 i v1128 v1130) (k1_t66 : Fin (k1_t66_loop v1128 v1130).trips) (k1_t68 : Fin (k1_t68_loop v1128 v1130 k1_t66).trips), ∀ a, (k1_off917 v1128 v1130 k1_t66 k1_t68) a + S1x16.size a ≤ S72x256.size a := fun i v1128 v1130 k1_hw7 k1_t66 k1_t68 => k1_hw7.2.2.2.1.2.2.2.2.2.1 k1_t66 k1_t68
theorem k1_off918_inb : ∀ (i : grid1.Coords) (v1128 : BitVec 32) (v1130 : BitVec 32) (k1_hw7 : k1_chk7 i v1128 v1130) (k1_t66 : Fin (k1_t66_loop v1128 v1130).trips) (k1_t68 : Fin (k1_t68_loop v1128 v1130 k1_t66).trips), ∀ a, (k1_off918 v1128 v1130 k1_t66 k1_t68) a + S1x16.size a ≤ S72x256.size a := fun i v1128 v1130 k1_hw7 k1_t66 k1_t68 => k1_hw7.2.2.2.1.2.2.2.2.2.2.1 k1_t66 k1_t68
theorem k1_off919_inb : ∀ (i : grid1.Coords) (v1128 : BitVec 32) (v1130 : BitVec 32) (k1_hw7 : k1_chk7 i v1128 v1130) (k1_t66 : Fin (k1_t66_loop v1128 v1130).trips) (k1_t68 : Fin (k1_t68_loop v1128 v1130 k1_t66).trips), ∀ a, (k1_off919 v1128 v1130 k1_t66 k1_t68) a + S1x16.size a ≤ S72x256.size a := fun i v1128 v1130 k1_hw7 k1_t66 k1_t68 => k1_hw7.2.2.2.1.2.2.2.2.2.2.2.1 k1_t66 k1_t68
theorem k1_off920_inb : ∀ (i : grid1.Coords) (v1128 : BitVec 32) (v1130 : BitVec 32) (k1_hw7 : k1_chk7 i v1128 v1130) (k1_t66 : Fin (k1_t66_loop v1128 v1130).trips) (k1_t68 : Fin (k1_t68_loop v1128 v1130 k1_t66).trips), ∀ a, (k1_off920 v1128 v1130 k1_t66 k1_t68) a + S1x16.size a ≤ S72x256.size a := fun i v1128 v1130 k1_hw7 k1_t66 k1_t68 => k1_hw7.2.2.2.1.2.2.2.2.2.2.2.2.1 k1_t66 k1_t68
theorem k1_off921_inb : ∀ (i : grid1.Coords) (v1128 : BitVec 32) (v1130 : BitVec 32) (k1_hw7 : k1_chk7 i v1128 v1130) (k1_t66 : Fin (k1_t66_loop v1128 v1130).trips) (k1_t68 : Fin (k1_t68_loop v1128 v1130 k1_t66).trips), ∀ a, (k1_off921 v1128 v1130 k1_t66 k1_t68) a + S1x16.size a ≤ S72x256.size a := fun i v1128 v1130 k1_hw7 k1_t66 k1_t68 => k1_hw7.2.2.2.1.2.2.2.2.2.2.2.2.2.1 k1_t66 k1_t68
theorem k1_off922_inb : ∀ (i : grid1.Coords) (v1128 : BitVec 32) (v1130 : BitVec 32) (k1_hw7 : k1_chk7 i v1128 v1130) (k1_t66 : Fin (k1_t66_loop v1128 v1130).trips) (k1_t68 : Fin (k1_t68_loop v1128 v1130 k1_t66).trips), ∀ a, (k1_off922 v1128 v1130 k1_t66 k1_t68) a + S1x16.size a ≤ S72x256.size a := fun i v1128 v1130 k1_hw7 k1_t66 k1_t68 => k1_hw7.2.2.2.1.2.2.2.2.2.2.2.2.2.2.1 k1_t66 k1_t68
theorem k1_off923_inb : ∀ (i : grid1.Coords) (v1128 : BitVec 32) (v1130 : BitVec 32) (k1_hw7 : k1_chk7 i v1128 v1130) (k1_t66 : Fin (k1_t66_loop v1128 v1130).trips) (k1_t68 : Fin (k1_t68_loop v1128 v1130 k1_t66).trips), ∀ a, (k1_off923 v1128 v1130 k1_t66 k1_t68) a + S1x16.size a ≤ S72x256.size a := fun i v1128 v1130 k1_hw7 k1_t66 k1_t68 => k1_hw7.2.2.2.1.2.2.2.2.2.2.2.2.2.2.2.1 k1_t66 k1_t68
theorem k1_off924_inb : ∀ (i : grid1.Coords) (v1128 : BitVec 32) (v1130 : BitVec 32) (k1_hw7 : k1_chk7 i v1128 v1130) (k1_t66 : Fin (k1_t66_loop v1128 v1130).trips) (k1_t68 : Fin (k1_t68_loop v1128 v1130 k1_t66).trips), ∀ a, (k1_off924 v1128 v1130 k1_t66 k1_t68) a + S1x16.size a ≤ S72x256.size a := fun i v1128 v1130 k1_hw7 k1_t66 k1_t68 => k1_hw7.2.2.2.1.2.2.2.2.2.2.2.2.2.2.2.2.1 k1_t66 k1_t68
theorem k1_off925_inb : ∀ (i : grid1.Coords) (v1128 : BitVec 32) (v1130 : BitVec 32) (k1_hw7 : k1_chk7 i v1128 v1130) (k1_t66 : Fin (k1_t66_loop v1128 v1130).trips) (k1_t68 : Fin (k1_t68_loop v1128 v1130 k1_t66).trips), ∀ a, (k1_off925 v1128 v1130 k1_t66 k1_t68) a + S1x16.size a ≤ S72x256.size a := fun i v1128 v1130 k1_hw7 k1_t66 k1_t68 => k1_hw7.2.2.2.1.2.2.2.2.2.2.2.2.2.2.2.2.2.1 k1_t66 k1_t68
theorem k1_off926_inb : ∀ (i : grid1.Coords) (v1128 : BitVec 32) (v1130 : BitVec 32) (k1_hw7 : k1_chk7 i v1128 v1130) (k1_t66 : Fin (k1_t66_loop v1128 v1130).trips) (k1_t68 : Fin (k1_t68_loop v1128 v1130 k1_t66).trips), ∀ a, (k1_off926 v1128 v1130 k1_t66 k1_t68) a + S1x16.size a ≤ S72x256.size a := fun i v1128 v1130 k1_hw7 k1_t66 k1_t68 => k1_hw7.2.2.2.1.2.2.2.2.2.2.2.2.2.2.2.2.2.2.1 k1_t66 k1_t68
theorem k1_off927_inb : ∀ (i : grid1.Coords) (v1128 : BitVec 32) (v1130 : BitVec 32) (k1_hw7 : k1_chk7 i v1128 v1130) (k1_t66 : Fin (k1_t66_loop v1128 v1130).trips), ∀ (k1_h62 : k1_cond62 v1128 v1130 k1_t66 = 1#1), ∀ a, (k1_off927 i v1128 v1130 k1_t66) a + S72x256.size a ≤ S100000x512.size a := fun i v1128 v1130 k1_hw7 k1_t66 k1_h62 => k1_hw7.2.2.2.1.2.2.2.2.2.2.2.2.2.2.2.2.2.2.2.1 k1_t66 k1_h62
theorem k1_off928_inb : ∀ (i : grid1.Coords) (v1128 : BitVec 32) (v1130 : BitVec 32) (k1_hw7 : k1_chk7 i v1128 v1130) (k1_t66 : Fin (k1_t66_loop v1128 v1130).trips), ∀ (k1_h62 : k1_cond62 v1128 v1130 k1_t66 = 1#1), ∀ (k1_h63 : k1_cond63 v1128 v1130 k1_t66 = 1#1), ∀ a, (k1_off928 i v1128 v1130 k1_t66) a + S72x256.size a ≤ S100000x512.size a := fun i v1128 v1130 k1_hw7 k1_t66 k1_h62 k1_h63 => k1_hw7.2.2.2.1.2.2.2.2.2.2.2.2.2.2.2.2.2.2.2.2.1 k1_t66 k1_h62 k1_h63
theorem k1_t69_ok : ∀ (i : grid1.Coords) (v1128 : BitVec 32) (v1130 : BitVec 32) (k1_hw7 : k1_chk7 i v1128 v1130) (k1_t66 : Fin (k1_t66_loop v1128 v1130).trips), (k1_t69_loop v1128 v1130 k1_t66).OK := fun i v1128 v1130 k1_hw7 k1_t66 => k1_hw7.2.2.2.1.2.2.2.2.2.2.2.2.2.2.2.2.2.2.2.2.2.1 k1_t66
theorem k1_off929_inb : ∀ (i : grid1.Coords) (v1128 : BitVec 32) (v1130 : BitVec 32) (k1_hw7 : k1_chk7 i v1128 v1130) (k1_t66 : Fin (k1_t66_loop v1128 v1130).trips) (k1_t69 : Fin (k1_t69_loop v1128 v1130 k1_t66).trips), ∀ a, (k1_off929 v1128 v1130 k1_t66 k1_t69) a + S1x16.size a ≤ S72x256.size a := fun i v1128 v1130 k1_hw7 k1_t66 k1_t69 => k1_hw7.2.2.2.1.2.2.2.2.2.2.2.2.2.2.2.2.2.2.2.2.2.2.1 k1_t66 k1_t69
theorem k1_off930_inb : ∀ (i : grid1.Coords) (v1128 : BitVec 32) (v1130 : BitVec 32) (k1_hw7 : k1_chk7 i v1128 v1130) (k1_t66 : Fin (k1_t66_loop v1128 v1130).trips) (k1_t69 : Fin (k1_t69_loop v1128 v1130 k1_t66).trips), ∀ a, (k1_off930 v1128 v1130 k1_t66 k1_t69) a + S1x16.size a ≤ S72x256.size a := fun i v1128 v1130 k1_hw7 k1_t66 k1_t69 => k1_hw7.2.2.2.1.2.2.2.2.2.2.2.2.2.2.2.2.2.2.2.2.2.2.2.1 k1_t66 k1_t69
theorem k1_off931_inb : ∀ (i : grid1.Coords) (v1128 : BitVec 32) (v1130 : BitVec 32) (k1_hw7 : k1_chk7 i v1128 v1130) (k1_t66 : Fin (k1_t66_loop v1128 v1130).trips) (k1_t69 : Fin (k1_t69_loop v1128 v1130 k1_t66).trips), ∀ a, (k1_off931 v1128 v1130 k1_t66 k1_t69) a + S1x16.size a ≤ S72x256.size a := fun i v1128 v1130 k1_hw7 k1_t66 k1_t69 => k1_hw7.2.2.2.1.2.2.2.2.2.2.2.2.2.2.2.2.2.2.2.2.2.2.2.2.1 k1_t66 k1_t69
theorem k1_off932_inb : ∀ (i : grid1.Coords) (v1128 : BitVec 32) (v1130 : BitVec 32) (k1_hw7 : k1_chk7 i v1128 v1130) (k1_t66 : Fin (k1_t66_loop v1128 v1130).trips) (k1_t69 : Fin (k1_t69_loop v1128 v1130 k1_t66).trips), ∀ a, (k1_off932 v1128 v1130 k1_t66 k1_t69) a + S1x16.size a ≤ S72x256.size a := fun i v1128 v1130 k1_hw7 k1_t66 k1_t69 => k1_hw7.2.2.2.1.2.2.2.2.2.2.2.2.2.2.2.2.2.2.2.2.2.2.2.2.2.1 k1_t66 k1_t69
theorem k1_off933_inb : ∀ (i : grid1.Coords) (v1128 : BitVec 32) (v1130 : BitVec 32) (k1_hw7 : k1_chk7 i v1128 v1130) (k1_t66 : Fin (k1_t66_loop v1128 v1130).trips) (k1_t69 : Fin (k1_t69_loop v1128 v1130 k1_t66).trips), ∀ a, (k1_off933 v1128 v1130 k1_t66 k1_t69) a + S1x16.size a ≤ S72x256.size a := fun i v1128 v1130 k1_hw7 k1_t66 k1_t69 => k1_hw7.2.2.2.1.2.2.2.2.2.2.2.2.2.2.2.2.2.2.2.2.2.2.2.2.2.2.1 k1_t66 k1_t69
theorem k1_off934_inb : ∀ (i : grid1.Coords) (v1128 : BitVec 32) (v1130 : BitVec 32) (k1_hw7 : k1_chk7 i v1128 v1130) (k1_t66 : Fin (k1_t66_loop v1128 v1130).trips) (k1_t69 : Fin (k1_t69_loop v1128 v1130 k1_t66).trips), ∀ a, (k1_off934 v1128 v1130 k1_t66 k1_t69) a + S1x16.size a ≤ S72x256.size a := fun i v1128 v1130 k1_hw7 k1_t66 k1_t69 => k1_hw7.2.2.2.1.2.2.2.2.2.2.2.2.2.2.2.2.2.2.2.2.2.2.2.2.2.2.2.1 k1_t66 k1_t69
theorem k1_off935_inb : ∀ (i : grid1.Coords) (v1128 : BitVec 32) (v1130 : BitVec 32) (k1_hw7 : k1_chk7 i v1128 v1130) (k1_t66 : Fin (k1_t66_loop v1128 v1130).trips) (k1_t69 : Fin (k1_t69_loop v1128 v1130 k1_t66).trips), ∀ a, (k1_off935 v1128 v1130 k1_t66 k1_t69) a + S1x16.size a ≤ S72x256.size a := fun i v1128 v1130 k1_hw7 k1_t66 k1_t69 => k1_hw7.2.2.2.1.2.2.2.2.2.2.2.2.2.2.2.2.2.2.2.2.2.2.2.2.2.2.2.2.1 k1_t66 k1_t69
theorem k1_off936_inb : ∀ (i : grid1.Coords) (v1128 : BitVec 32) (v1130 : BitVec 32) (k1_hw7 : k1_chk7 i v1128 v1130) (k1_t66 : Fin (k1_t66_loop v1128 v1130).trips) (k1_t69 : Fin (k1_t69_loop v1128 v1130 k1_t66).trips), ∀ a, (k1_off936 v1128 v1130 k1_t66 k1_t69) a + S1x16.size a ≤ S72x256.size a := fun i v1128 v1130 k1_hw7 k1_t66 k1_t69 => k1_hw7.2.2.2.1.2.2.2.2.2.2.2.2.2.2.2.2.2.2.2.2.2.2.2.2.2.2.2.2.2.1 k1_t66 k1_t69
theorem k1_off937_inb : ∀ (i : grid1.Coords) (v1128 : BitVec 32) (v1130 : BitVec 32) (k1_hw7 : k1_chk7 i v1128 v1130) (k1_t66 : Fin (k1_t66_loop v1128 v1130).trips) (k1_t69 : Fin (k1_t69_loop v1128 v1130 k1_t66).trips), ∀ a, (k1_off937 v1128 v1130 k1_t66 k1_t69) a + S1x16.size a ≤ S72x256.size a := fun i v1128 v1130 k1_hw7 k1_t66 k1_t69 => k1_hw7.2.2.2.1.2.2.2.2.2.2.2.2.2.2.2.2.2.2.2.2.2.2.2.2.2.2.2.2.2.2.1 k1_t66 k1_t69
theorem k1_off938_inb : ∀ (i : grid1.Coords) (v1128 : BitVec 32) (v1130 : BitVec 32) (k1_hw7 : k1_chk7 i v1128 v1130) (k1_t66 : Fin (k1_t66_loop v1128 v1130).trips) (k1_t69 : Fin (k1_t69_loop v1128 v1130 k1_t66).trips), ∀ a, (k1_off938 v1128 v1130 k1_t66 k1_t69) a + S1x16.size a ≤ S72x256.size a := fun i v1128 v1130 k1_hw7 k1_t66 k1_t69 => k1_hw7.2.2.2.1.2.2.2.2.2.2.2.2.2.2.2.2.2.2.2.2.2.2.2.2.2.2.2.2.2.2.2.1 k1_t66 k1_t69
theorem k1_off939_inb : ∀ (i : grid1.Coords) (v1128 : BitVec 32) (v1130 : BitVec 32) (k1_hw7 : k1_chk7 i v1128 v1130) (k1_t66 : Fin (k1_t66_loop v1128 v1130).trips) (k1_t69 : Fin (k1_t69_loop v1128 v1130 k1_t66).trips), ∀ a, (k1_off939 v1128 v1130 k1_t66 k1_t69) a + S1x16.size a ≤ S72x256.size a := fun i v1128 v1130 k1_hw7 k1_t66 k1_t69 => k1_hw7.2.2.2.1.2.2.2.2.2.2.2.2.2.2.2.2.2.2.2.2.2.2.2.2.2.2.2.2.2.2.2.2.1 k1_t66 k1_t69
theorem k1_off940_inb : ∀ (i : grid1.Coords) (v1128 : BitVec 32) (v1130 : BitVec 32) (k1_hw7 : k1_chk7 i v1128 v1130) (k1_t66 : Fin (k1_t66_loop v1128 v1130).trips) (k1_t69 : Fin (k1_t69_loop v1128 v1130 k1_t66).trips), ∀ a, (k1_off940 v1128 v1130 k1_t66 k1_t69) a + S1x16.size a ≤ S72x256.size a := fun i v1128 v1130 k1_hw7 k1_t66 k1_t69 => k1_hw7.2.2.2.1.2.2.2.2.2.2.2.2.2.2.2.2.2.2.2.2.2.2.2.2.2.2.2.2.2.2.2.2.2.1 k1_t66 k1_t69
theorem k1_off941_inb : ∀ (i : grid1.Coords) (v1128 : BitVec 32) (v1130 : BitVec 32) (k1_hw7 : k1_chk7 i v1128 v1130) (k1_t66 : Fin (k1_t66_loop v1128 v1130).trips) (k1_t69 : Fin (k1_t69_loop v1128 v1130 k1_t66).trips), ∀ a, (k1_off941 v1128 v1130 k1_t66 k1_t69) a + S1x16.size a ≤ S72x256.size a := fun i v1128 v1130 k1_hw7 k1_t66 k1_t69 => k1_hw7.2.2.2.1.2.2.2.2.2.2.2.2.2.2.2.2.2.2.2.2.2.2.2.2.2.2.2.2.2.2.2.2.2.2.1 k1_t66 k1_t69
theorem k1_off942_inb : ∀ (i : grid1.Coords) (v1128 : BitVec 32) (v1130 : BitVec 32) (k1_hw7 : k1_chk7 i v1128 v1130) (k1_t66 : Fin (k1_t66_loop v1128 v1130).trips) (k1_t69 : Fin (k1_t69_loop v1128 v1130 k1_t66).trips), ∀ a, (k1_off942 v1128 v1130 k1_t66 k1_t69) a + S1x16.size a ≤ S72x256.size a := fun i v1128 v1130 k1_hw7 k1_t66 k1_t69 => k1_hw7.2.2.2.1.2.2.2.2.2.2.2.2.2.2.2.2.2.2.2.2.2.2.2.2.2.2.2.2.2.2.2.2.2.2.2 k1_t66 k1_t69
theorem k1_off943_inb : ∀ (i : grid1.Coords) (v1128 : BitVec 32) (v1130 : BitVec 32) (k1_hw7 : k1_chk7 i v1128 v1130) (k1_t66 : Fin (k1_t66_loop v1128 v1130).trips) (k1_t69 : Fin (k1_t69_loop v1128 v1130 k1_t66).trips), ∀ a, (k1_off943 v1128 v1130 k1_t66 k1_t69) a + S1x16.size a ≤ S72x256.size a := fun i v1128 v1130 k1_hw7 k1_t66 k1_t69 => k1_hw7.2.2.2.2.1 k1_t66 k1_t69
theorem k1_off944_inb : ∀ (i : grid1.Coords) (v1128 : BitVec 32) (v1130 : BitVec 32) (k1_hw7 : k1_chk7 i v1128 v1130) (k1_t66 : Fin (k1_t66_loop v1128 v1130).trips) (k1_t69 : Fin (k1_t69_loop v1128 v1130 k1_t66).trips), ∀ a, (k1_off944 v1128 v1130 k1_t66 k1_t69) a + S1x16.size a ≤ S72x256.size a := fun i v1128 v1130 k1_hw7 k1_t66 k1_t69 => k1_hw7.2.2.2.2.2.1 k1_t66 k1_t69
theorem k1_t70_ok : ∀ (i : grid1.Coords) (v1128 : BitVec 32) (v1130 : BitVec 32) (k1_hw7 : k1_chk7 i v1128 v1130) (k1_t66 : Fin (k1_t66_loop v1128 v1130).trips), (k1_t70_loop v1128 v1130 k1_t66).OK := fun i v1128 v1130 k1_hw7 k1_t66 => k1_hw7.2.2.2.2.2.2.1 k1_t66
theorem k1_off945_inb : ∀ (i : grid1.Coords) (v1128 : BitVec 32) (v1130 : BitVec 32) (k1_hw7 : k1_chk7 i v1128 v1130) (k1_t66 : Fin (k1_t66_loop v1128 v1130).trips) (k1_t70 : Fin (k1_t70_loop v1128 v1130 k1_t66).trips), ∀ a, (k1_off945 v1128 v1130 k1_t66 k1_t70) a + S1x16.size a ≤ S72x256.size a := fun i v1128 v1130 k1_hw7 k1_t66 k1_t70 => k1_hw7.2.2.2.2.2.2.2.1 k1_t66 k1_t70
theorem k1_off946_inb : ∀ (i : grid1.Coords) (v1128 : BitVec 32) (v1130 : BitVec 32) (k1_hw7 : k1_chk7 i v1128 v1130) (k1_t66 : Fin (k1_t66_loop v1128 v1130).trips) (k1_t70 : Fin (k1_t70_loop v1128 v1130 k1_t66).trips), ∀ a, (k1_off946 v1128 v1130 k1_t66 k1_t70) a + S1x16.size a ≤ S72x256.size a := fun i v1128 v1130 k1_hw7 k1_t66 k1_t70 => k1_hw7.2.2.2.2.2.2.2.2.1 k1_t66 k1_t70
theorem k1_off947_inb : ∀ (i : grid1.Coords) (v1128 : BitVec 32) (v1130 : BitVec 32) (k1_hw7 : k1_chk7 i v1128 v1130) (k1_t66 : Fin (k1_t66_loop v1128 v1130).trips) (k1_t70 : Fin (k1_t70_loop v1128 v1130 k1_t66).trips), ∀ a, (k1_off947 v1128 v1130 k1_t66 k1_t70) a + S1x16.size a ≤ S72x256.size a := fun i v1128 v1130 k1_hw7 k1_t66 k1_t70 => k1_hw7.2.2.2.2.2.2.2.2.2.1 k1_t66 k1_t70
theorem k1_off948_inb : ∀ (i : grid1.Coords) (v1128 : BitVec 32) (v1130 : BitVec 32) (k1_hw7 : k1_chk7 i v1128 v1130) (k1_t66 : Fin (k1_t66_loop v1128 v1130).trips) (k1_t70 : Fin (k1_t70_loop v1128 v1130 k1_t66).trips), ∀ a, (k1_off948 v1128 v1130 k1_t66 k1_t70) a + S1x16.size a ≤ S72x256.size a := fun i v1128 v1130 k1_hw7 k1_t66 k1_t70 => k1_hw7.2.2.2.2.2.2.2.2.2.2.1 k1_t66 k1_t70
theorem k1_off949_inb : ∀ (i : grid1.Coords) (v1128 : BitVec 32) (v1130 : BitVec 32) (k1_hw7 : k1_chk7 i v1128 v1130) (k1_t66 : Fin (k1_t66_loop v1128 v1130).trips) (k1_t70 : Fin (k1_t70_loop v1128 v1130 k1_t66).trips), ∀ a, (k1_off949 v1128 v1130 k1_t66 k1_t70) a + S1x16.size a ≤ S72x256.size a := fun i v1128 v1130 k1_hw7 k1_t66 k1_t70 => k1_hw7.2.2.2.2.2.2.2.2.2.2.2.1 k1_t66 k1_t70
theorem k1_off950_inb : ∀ (i : grid1.Coords) (v1128 : BitVec 32) (v1130 : BitVec 32) (k1_hw7 : k1_chk7 i v1128 v1130) (k1_t66 : Fin (k1_t66_loop v1128 v1130).trips) (k1_t70 : Fin (k1_t70_loop v1128 v1130 k1_t66).trips), ∀ a, (k1_off950 v1128 v1130 k1_t66 k1_t70) a + S1x16.size a ≤ S72x256.size a := fun i v1128 v1130 k1_hw7 k1_t66 k1_t70 => k1_hw7.2.2.2.2.2.2.2.2.2.2.2.2.1 k1_t66 k1_t70
theorem k1_off951_inb : ∀ (i : grid1.Coords) (v1128 : BitVec 32) (v1130 : BitVec 32) (k1_hw7 : k1_chk7 i v1128 v1130) (k1_t66 : Fin (k1_t66_loop v1128 v1130).trips) (k1_t70 : Fin (k1_t70_loop v1128 v1130 k1_t66).trips), ∀ a, (k1_off951 v1128 v1130 k1_t66 k1_t70) a + S1x16.size a ≤ S72x256.size a := fun i v1128 v1130 k1_hw7 k1_t66 k1_t70 => k1_hw7.2.2.2.2.2.2.2.2.2.2.2.2.2.1 k1_t66 k1_t70
theorem k1_off952_inb : ∀ (i : grid1.Coords) (v1128 : BitVec 32) (v1130 : BitVec 32) (k1_hw7 : k1_chk7 i v1128 v1130) (k1_t66 : Fin (k1_t66_loop v1128 v1130).trips) (k1_t70 : Fin (k1_t70_loop v1128 v1130 k1_t66).trips), ∀ a, (k1_off952 v1128 v1130 k1_t66 k1_t70) a + S1x16.size a ≤ S72x256.size a := fun i v1128 v1130 k1_hw7 k1_t66 k1_t70 => k1_hw7.2.2.2.2.2.2.2.2.2.2.2.2.2.2.1 k1_t66 k1_t70
theorem k1_off953_inb : ∀ (i : grid1.Coords) (v1128 : BitVec 32) (v1130 : BitVec 32) (k1_hw7 : k1_chk7 i v1128 v1130) (k1_t66 : Fin (k1_t66_loop v1128 v1130).trips) (k1_t70 : Fin (k1_t70_loop v1128 v1130 k1_t66).trips), ∀ a, (k1_off953 v1128 v1130 k1_t66 k1_t70) a + S1x16.size a ≤ S72x256.size a := fun i v1128 v1130 k1_hw7 k1_t66 k1_t70 => k1_hw7.2.2.2.2.2.2.2.2.2.2.2.2.2.2.2.1 k1_t66 k1_t70
theorem k1_off954_inb : ∀ (i : grid1.Coords) (v1128 : BitVec 32) (v1130 : BitVec 32) (k1_hw7 : k1_chk7 i v1128 v1130) (k1_t66 : Fin (k1_t66_loop v1128 v1130).trips) (k1_t70 : Fin (k1_t70_loop v1128 v1130 k1_t66).trips), ∀ a, (k1_off954 v1128 v1130 k1_t66 k1_t70) a + S1x16.size a ≤ S72x256.size a := fun i v1128 v1130 k1_hw7 k1_t66 k1_t70 => k1_hw7.2.2.2.2.2.2.2.2.2.2.2.2.2.2.2.2.1 k1_t66 k1_t70
theorem k1_off955_inb : ∀ (i : grid1.Coords) (v1128 : BitVec 32) (v1130 : BitVec 32) (k1_hw7 : k1_chk7 i v1128 v1130) (k1_t66 : Fin (k1_t66_loop v1128 v1130).trips) (k1_t70 : Fin (k1_t70_loop v1128 v1130 k1_t66).trips), ∀ a, (k1_off955 v1128 v1130 k1_t66 k1_t70) a + S1x16.size a ≤ S72x256.size a := fun i v1128 v1130 k1_hw7 k1_t66 k1_t70 => k1_hw7.2.2.2.2.2.2.2.2.2.2.2.2.2.2.2.2.2.1 k1_t66 k1_t70
theorem k1_off956_inb : ∀ (i : grid1.Coords) (v1128 : BitVec 32) (v1130 : BitVec 32) (k1_hw7 : k1_chk7 i v1128 v1130) (k1_t66 : Fin (k1_t66_loop v1128 v1130).trips) (k1_t70 : Fin (k1_t70_loop v1128 v1130 k1_t66).trips), ∀ a, (k1_off956 v1128 v1130 k1_t66 k1_t70) a + S1x16.size a ≤ S72x256.size a := fun i v1128 v1130 k1_hw7 k1_t66 k1_t70 => k1_hw7.2.2.2.2.2.2.2.2.2.2.2.2.2.2.2.2.2.2.1 k1_t66 k1_t70
theorem k1_off957_inb : ∀ (i : grid1.Coords) (v1128 : BitVec 32) (v1130 : BitVec 32) (k1_hw7 : k1_chk7 i v1128 v1130) (k1_t66 : Fin (k1_t66_loop v1128 v1130).trips) (k1_t70 : Fin (k1_t70_loop v1128 v1130 k1_t66).trips), ∀ a, (k1_off957 v1128 v1130 k1_t66 k1_t70) a + S1x16.size a ≤ S72x256.size a := fun i v1128 v1130 k1_hw7 k1_t66 k1_t70 => k1_hw7.2.2.2.2.2.2.2.2.2.2.2.2.2.2.2.2.2.2.2.1 k1_t66 k1_t70
theorem k1_off958_inb : ∀ (i : grid1.Coords) (v1128 : BitVec 32) (v1130 : BitVec 32) (k1_hw7 : k1_chk7 i v1128 v1130) (k1_t66 : Fin (k1_t66_loop v1128 v1130).trips) (k1_t70 : Fin (k1_t70_loop v1128 v1130 k1_t66).trips), ∀ a, (k1_off958 v1128 v1130 k1_t66 k1_t70) a + S1x16.size a ≤ S72x256.size a := fun i v1128 v1130 k1_hw7 k1_t66 k1_t70 => k1_hw7.2.2.2.2.2.2.2.2.2.2.2.2.2.2.2.2.2.2.2.2.1 k1_t66 k1_t70
theorem k1_off959_inb : ∀ (i : grid1.Coords) (v1128 : BitVec 32) (v1130 : BitVec 32) (k1_hw7 : k1_chk7 i v1128 v1130) (k1_t66 : Fin (k1_t66_loop v1128 v1130).trips) (k1_t70 : Fin (k1_t70_loop v1128 v1130 k1_t66).trips), ∀ a, (k1_off959 v1128 v1130 k1_t66 k1_t70) a + S1x16.size a ≤ S72x256.size a := fun i v1128 v1130 k1_hw7 k1_t66 k1_t70 => k1_hw7.2.2.2.2.2.2.2.2.2.2.2.2.2.2.2.2.2.2.2.2.2.1 k1_t66 k1_t70
theorem k1_off960_inb : ∀ (i : grid1.Coords) (v1128 : BitVec 32) (v1130 : BitVec 32) (k1_hw7 : k1_chk7 i v1128 v1130) (k1_t66 : Fin (k1_t66_loop v1128 v1130).trips) (k1_t70 : Fin (k1_t70_loop v1128 v1130 k1_t66).trips), ∀ a, (k1_off960 v1128 v1130 k1_t66 k1_t70) a + S1x16.size a ≤ S72x256.size a := fun i v1128 v1130 k1_hw7 k1_t66 k1_t70 => k1_hw7.2.2.2.2.2.2.2.2.2.2.2.2.2.2.2.2.2.2.2.2.2.2 k1_t66 k1_t70

def k1_off961 (i : grid1.Coords) (v1310 : BitVec 32) : Fin 2 → Nat :=
  let c0_i32_1408 : BitVec 32 := 0#32
  let v2949 : BitVec 32 := Scalar.addi v1310 c0_i32_1408
  let c0_i32_1410 : BitVec 32 := 0#32
  let v2951 : BitVec 1 := Scalar.cmpi .sgt v2949 c0_i32_1410
  let v2952 : BitVec 32 := Scalar.extui v2951
  let c0_i32_1411 : BitVec 32 := 0#32
  let v2953 : BitVec 1 := Scalar.cmpi .slt v2949 c0_i32_1411
  let v2954 : BitVec 32 := Scalar.extui v2953
  let v2955 : BitVec 32 := Scalar.subi v2952 v2954
  let c8_i32_1409 : BitVec 32 := 8#32
  let c0_i32_1412 : BitVec 32 := 0#32
  let v2956 : BitVec 1 := Scalar.cmpi .sgt c8_i32_1409 c0_i32_1412
  let v2957 : BitVec 32 := Scalar.extui v2956
  let c0_i32_1413 : BitVec 32 := 0#32
  let v2958 : BitVec 1 := Scalar.cmpi .slt c8_i32_1409 c0_i32_1413
  let v2959 : BitVec 32 := Scalar.extui v2958
  let v2960 : BitVec 32 := Scalar.subi v2957 v2959
  let v2961 : BitVec 1 := Scalar.cmpi .ne v2955 v2960
  let v2962 : BitVec 32 := Scalar.remsi v2949 c8_i32_1409
  let c0_i32_1414 : BitVec 32 := 0#32
  let v2963 : BitVec 1 := Scalar.cmpi .ne v2962 c0_i32_1414
  let v2964 : BitVec 1 := Scalar.andi v2961 v2963
  let v2950 : BitVec 32 := Scalar.divsi v2949 c8_i32_1409
  let c1_i32_1415 : BitVec 32 := 1#32
  let v2965 : BitVec 32 := Scalar.subi v2950 c1_i32_1415
  let v2966 : BitVec 32 := Scalar.select v2964 v2965 v2950
  let c8_i32_1416 : BitVec 32 := 8#32
  let v2967 : BitVec 32 := Scalar.muli v2966 c8_i32_1416
  let c99928_i32 : BitVec 32 := 99928#32
  let v2968 : BitVec 32 := Scalar.minsi v2967 c99928_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v2968.toNat, v29.toNat]
def k1_cond64 (v1310 : BitVec 32) (v1312 : BitVec 32) : BitVec 1 :=
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c0_i32_625 : BitVec 32 := 0#32
  let v1335 : BitVec 1 := Scalar.cmpi .sgt v1334 c0_i32_625
  let v1336 : BitVec 32 := Scalar.extui v1335
  let c0_i32_626 : BitVec 32 := 0#32
  let v1337 : BitVec 1 := Scalar.cmpi .ne v1336 c0_i32_626
  v1337

@[reducible] def k1_t71_loop (v1310 : BitVec 32) (v1312 : BitVec 32) : Scf.Loop 32 :=
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_637 : BitVec 32 := 1#32
  ⟨c0_i32_635, v1360, c1_i32_637⟩
def k1_off962 (i : grid1.Coords) (v1310 : BitVec 32) (v1312 : BitVec 32) (k1_t71 : Fin (k1_t71_loop v1310 v1312).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1446 : BitVec 32 := 64#32
  let v3026 : BitVec 32 := Scalar.muli v2949 c64_i32_1446
  let v3027 : BitVec 32 := Scalar.addi v1310 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond65 (v1310 : BitVec 32) (v1312 : BitVec 32) (k1_t71 : Fin (k1_t71_loop v1310 v1312).trips) : BitVec 1 :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let v2950 : BitVec 1 := Scalar.cmpi .slt v2949 v1334
  let v2951 : BitVec 32 := Scalar.extui v2950
  let c0_i32_1409 : BitVec 32 := 0#32
  let v2952 : BitVec 1 := Scalar.cmpi .ne v2951 c0_i32_1409
  v2952

def k1_off963 (i : grid1.Coords) (v1310 : BitVec 32) (v1312 : BitVec 32) (k1_t71 : Fin (k1_t71_loop v1310 v1312).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v1310 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond66 (v1310 : BitVec 32) (v1312 : BitVec 32) (k1_t71 : Fin (k1_t71_loop v1310 v1312).trips) : BitVec 1 :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c1_i32_1456 : BitVec 32 := 1#32
  let v3049 : BitVec 32 := Scalar.addi v2949 c1_i32_1456
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let v3050 : BitVec 1 := Scalar.cmpi .slt v3049 v1334
  let v3051 : BitVec 32 := Scalar.extui v3050
  let c0_i32_1457 : BitVec 32 := 0#32
  let v3052 : BitVec 1 := Scalar.cmpi .ne v3051 c0_i32_1457
  v3052

@[reducible] def k1_t72_loop (v1310 : BitVec 32) (v1312 : BitVec 32) (k1_t71 : Fin (k1_t71_loop v1310 v1312).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off964 (v1310 : BitVec 32) (v1312 : BitVec 32) (k1_t71 : Fin (k1_t71_loop v1310 v1312).trips) (k1_t72 : Fin (k1_t72_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t72
  let v3026 : BitVec 32 := Scalar.addi v2976 arg46
  let v3027 : Index := Scalar.indexCast v3026
  let c0_1446 : Index := 0#32
  ![v3027.toNat, 0]
def k1_off965 (v1310 : BitVec 32) (v1312 : BitVec 32) (k1_t71 : Fin (k1_t71_loop v1310 v1312).trips) (k1_t72 : Fin (k1_t72_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t72
  let v3026 : BitVec 32 := Scalar.addi v2976 arg46
  let v3032 : Index := Scalar.indexCast v3026
  let c16_1447 : Index := 16#32
  ![v3032.toNat, 16]
def k1_off966 (v1310 : BitVec 32) (v1312 : BitVec 32) (k1_t71 : Fin (k1_t71_loop v1310 v1312).trips) (k1_t72 : Fin (k1_t72_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t72
  let v3026 : BitVec 32 := Scalar.addi v2976 arg46
  let v3037 : Index := Scalar.indexCast v3026
  let c32_1448 : Index := 32#32
  ![v3037.toNat, 32]
def k1_off967 (v1310 : BitVec 32) (v1312 : BitVec 32) (k1_t71 : Fin (k1_t71_loop v1310 v1312).trips) (k1_t72 : Fin (k1_t72_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t72
  let v3026 : BitVec 32 := Scalar.addi v2976 arg46
  let v3042 : Index := Scalar.indexCast v3026
  let c48_1449 : Index := 48#32
  ![v3042.toNat, 48]
def k1_off968 (v1310 : BitVec 32) (v1312 : BitVec 32) (k1_t71 : Fin (k1_t71_loop v1310 v1312).trips) (k1_t72 : Fin (k1_t72_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t72
  let v3026 : BitVec 32 := Scalar.addi v2976 arg46
  let v3047 : Index := Scalar.indexCast v3026
  let c64_1450 : Index := 64#32
  ![v3047.toNat, 64]
def k1_off969 (v1310 : BitVec 32) (v1312 : BitVec 32) (k1_t71 : Fin (k1_t71_loop v1310 v1312).trips) (k1_t72 : Fin (k1_t72_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t72
  let v3026 : BitVec 32 := Scalar.addi v2976 arg46
  let v3052 : Index := Scalar.indexCast v3026
  let c80_1451 : Index := 80#32
  ![v3052.toNat, 80]
def k1_off970 (v1310 : BitVec 32) (v1312 : BitVec 32) (k1_t71 : Fin (k1_t71_loop v1310 v1312).trips) (k1_t72 : Fin (k1_t72_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t72
  let v3026 : BitVec 32 := Scalar.addi v2976 arg46
  let v3057 : Index := Scalar.indexCast v3026
  let c96_1452 : Index := 96#32
  ![v3057.toNat, 96]
def k1_off971 (v1310 : BitVec 32) (v1312 : BitVec 32) (k1_t71 : Fin (k1_t71_loop v1310 v1312).trips) (k1_t72 : Fin (k1_t72_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t72
  let v3026 : BitVec 32 := Scalar.addi v2976 arg46
  let v3062 : Index := Scalar.indexCast v3026
  let c112_1453 : Index := 112#32
  ![v3062.toNat, 112]
def k1_off972 (v1310 : BitVec 32) (v1312 : BitVec 32) (k1_t71 : Fin (k1_t71_loop v1310 v1312).trips) (k1_t72 : Fin (k1_t72_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t72
  let v3026 : BitVec 32 := Scalar.addi v2976 arg46
  let v3067 : Index := Scalar.indexCast v3026
  let c128_1454 : Index := 128#32
  ![v3067.toNat, 128]
def k1_off973 (v1310 : BitVec 32) (v1312 : BitVec 32) (k1_t71 : Fin (k1_t71_loop v1310 v1312).trips) (k1_t72 : Fin (k1_t72_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t72
  let v3026 : BitVec 32 := Scalar.addi v2976 arg46
  let v3072 : Index := Scalar.indexCast v3026
  let c144_1455 : Index := 144#32
  ![v3072.toNat, 144]
def k1_off974 (v1310 : BitVec 32) (v1312 : BitVec 32) (k1_t71 : Fin (k1_t71_loop v1310 v1312).trips) (k1_t72 : Fin (k1_t72_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t72
  let v3026 : BitVec 32 := Scalar.addi v2976 arg46
  let v3077 : Index := Scalar.indexCast v3026
  let c160_1456 : Index := 160#32
  ![v3077.toNat, 160]
def k1_off975 (v1310 : BitVec 32) (v1312 : BitVec 32) (k1_t71 : Fin (k1_t71_loop v1310 v1312).trips) (k1_t72 : Fin (k1_t72_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t72
  let v3026 : BitVec 32 := Scalar.addi v2976 arg46
  let v3082 : Index := Scalar.indexCast v3026
  let c176_1457 : Index := 176#32
  ![v3082.toNat, 176]
def k1_off976 (v1310 : BitVec 32) (v1312 : BitVec 32) (k1_t71 : Fin (k1_t71_loop v1310 v1312).trips) (k1_t72 : Fin (k1_t72_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t72
  let v3026 : BitVec 32 := Scalar.addi v2976 arg46
  let v3087 : Index := Scalar.indexCast v3026
  let c192_1458 : Index := 192#32
  ![v3087.toNat, 192]
def k1_off977 (v1310 : BitVec 32) (v1312 : BitVec 32) (k1_t71 : Fin (k1_t71_loop v1310 v1312).trips) (k1_t72 : Fin (k1_t72_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t72
  let v3026 : BitVec 32 := Scalar.addi v2976 arg46
  let v3092 : Index := Scalar.indexCast v3026
  let c208_1459 : Index := 208#32
  ![v3092.toNat, 208]
def k1_off978 (v1310 : BitVec 32) (v1312 : BitVec 32) (k1_t71 : Fin (k1_t71_loop v1310 v1312).trips) (k1_t72 : Fin (k1_t72_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t72
  let v3026 : BitVec 32 := Scalar.addi v2976 arg46
  let v3097 : Index := Scalar.indexCast v3026
  let c224_1460 : Index := 224#32
  ![v3097.toNat, 224]
def k1_off979 (v1310 : BitVec 32) (v1312 : BitVec 32) (k1_t71 : Fin (k1_t71_loop v1310 v1312).trips) (k1_t72 : Fin (k1_t72_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t72
  let v3026 : BitVec 32 := Scalar.addi v2976 arg46
  let v3102 : Index := Scalar.indexCast v3026
  let c240_1461 : Index := 240#32
  ![v3102.toNat, 240]
@[reducible] def k1_t73_loop (v1310 : BitVec 32) (v1312 : BitVec 32) (k1_t71 : Fin (k1_t71_loop v1310 v1312).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off980 (v1310 : BitVec 32) (v1312 : BitVec 32) (k1_t71 : Fin (k1_t71_loop v1310 v1312).trips) (k1_t73 : Fin (k1_t73_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t73
  let v3026 : BitVec 32 := Scalar.addi v2976 arg46
  let v3027 : Index := Scalar.indexCast v3026
  let c0_1446 : Index := 0#32
  ![v3027.toNat, 0]
def k1_off981 (v1310 : BitVec 32) (v1312 : BitVec 32) (k1_t71 : Fin (k1_t71_loop v1310 v1312).trips) (k1_t73 : Fin (k1_t73_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t73
  let v3026 : BitVec 32 := Scalar.addi v2976 arg46
  let v3032 : Index := Scalar.indexCast v3026
  let c16_1447 : Index := 16#32
  ![v3032.toNat, 16]
def k1_off982 (v1310 : BitVec 32) (v1312 : BitVec 32) (k1_t71 : Fin (k1_t71_loop v1310 v1312).trips) (k1_t73 : Fin (k1_t73_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t73
  let v3026 : BitVec 32 := Scalar.addi v2976 arg46
  let v3037 : Index := Scalar.indexCast v3026
  let c32_1448 : Index := 32#32
  ![v3037.toNat, 32]
def k1_off983 (v1310 : BitVec 32) (v1312 : BitVec 32) (k1_t71 : Fin (k1_t71_loop v1310 v1312).trips) (k1_t73 : Fin (k1_t73_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t73
  let v3026 : BitVec 32 := Scalar.addi v2976 arg46
  let v3042 : Index := Scalar.indexCast v3026
  let c48_1449 : Index := 48#32
  ![v3042.toNat, 48]
def k1_off984 (v1310 : BitVec 32) (v1312 : BitVec 32) (k1_t71 : Fin (k1_t71_loop v1310 v1312).trips) (k1_t73 : Fin (k1_t73_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t73
  let v3026 : BitVec 32 := Scalar.addi v2976 arg46
  let v3047 : Index := Scalar.indexCast v3026
  let c64_1450 : Index := 64#32
  ![v3047.toNat, 64]
def k1_off985 (v1310 : BitVec 32) (v1312 : BitVec 32) (k1_t71 : Fin (k1_t71_loop v1310 v1312).trips) (k1_t73 : Fin (k1_t73_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t73
  let v3026 : BitVec 32 := Scalar.addi v2976 arg46
  let v3052 : Index := Scalar.indexCast v3026
  let c80_1451 : Index := 80#32
  ![v3052.toNat, 80]
def k1_off986 (v1310 : BitVec 32) (v1312 : BitVec 32) (k1_t71 : Fin (k1_t71_loop v1310 v1312).trips) (k1_t73 : Fin (k1_t73_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t73
  let v3026 : BitVec 32 := Scalar.addi v2976 arg46
  let v3057 : Index := Scalar.indexCast v3026
  let c96_1452 : Index := 96#32
  ![v3057.toNat, 96]
def k1_off987 (v1310 : BitVec 32) (v1312 : BitVec 32) (k1_t71 : Fin (k1_t71_loop v1310 v1312).trips) (k1_t73 : Fin (k1_t73_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t73
  let v3026 : BitVec 32 := Scalar.addi v2976 arg46
  let v3062 : Index := Scalar.indexCast v3026
  let c112_1453 : Index := 112#32
  ![v3062.toNat, 112]
def k1_off988 (v1310 : BitVec 32) (v1312 : BitVec 32) (k1_t71 : Fin (k1_t71_loop v1310 v1312).trips) (k1_t73 : Fin (k1_t73_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t73
  let v3026 : BitVec 32 := Scalar.addi v2976 arg46
  let v3067 : Index := Scalar.indexCast v3026
  let c128_1454 : Index := 128#32
  ![v3067.toNat, 128]
def k1_off989 (v1310 : BitVec 32) (v1312 : BitVec 32) (k1_t71 : Fin (k1_t71_loop v1310 v1312).trips) (k1_t73 : Fin (k1_t73_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t73
  let v3026 : BitVec 32 := Scalar.addi v2976 arg46
  let v3072 : Index := Scalar.indexCast v3026
  let c144_1455 : Index := 144#32
  ![v3072.toNat, 144]
def k1_off990 (v1310 : BitVec 32) (v1312 : BitVec 32) (k1_t71 : Fin (k1_t71_loop v1310 v1312).trips) (k1_t73 : Fin (k1_t73_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t73
  let v3026 : BitVec 32 := Scalar.addi v2976 arg46
  let v3077 : Index := Scalar.indexCast v3026
  let c160_1456 : Index := 160#32
  ![v3077.toNat, 160]
def k1_off991 (v1310 : BitVec 32) (v1312 : BitVec 32) (k1_t71 : Fin (k1_t71_loop v1310 v1312).trips) (k1_t73 : Fin (k1_t73_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t73
  let v3026 : BitVec 32 := Scalar.addi v2976 arg46
  let v3082 : Index := Scalar.indexCast v3026
  let c176_1457 : Index := 176#32
  ![v3082.toNat, 176]
def k1_off992 (v1310 : BitVec 32) (v1312 : BitVec 32) (k1_t71 : Fin (k1_t71_loop v1310 v1312).trips) (k1_t73 : Fin (k1_t73_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t73
  let v3026 : BitVec 32 := Scalar.addi v2976 arg46
  let v3087 : Index := Scalar.indexCast v3026
  let c192_1458 : Index := 192#32
  ![v3087.toNat, 192]
def k1_off993 (v1310 : BitVec 32) (v1312 : BitVec 32) (k1_t71 : Fin (k1_t71_loop v1310 v1312).trips) (k1_t73 : Fin (k1_t73_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t73
  let v3026 : BitVec 32 := Scalar.addi v2976 arg46
  let v3092 : Index := Scalar.indexCast v3026
  let c208_1459 : Index := 208#32
  ![v3092.toNat, 208]
def k1_off994 (v1310 : BitVec 32) (v1312 : BitVec 32) (k1_t71 : Fin (k1_t71_loop v1310 v1312).trips) (k1_t73 : Fin (k1_t73_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t73
  let v3026 : BitVec 32 := Scalar.addi v2976 arg46
  let v3097 : Index := Scalar.indexCast v3026
  let c224_1460 : Index := 224#32
  ![v3097.toNat, 224]
def k1_off995 (v1310 : BitVec 32) (v1312 : BitVec 32) (k1_t71 : Fin (k1_t71_loop v1310 v1312).trips) (k1_t73 : Fin (k1_t73_loop v1310 v1312 k1_t71).trips) : Fin 2 → Nat :=
  let c2_i32_1408 : BitVec 32 := 2#32
  let c0_i32_635 : BitVec 32 := 0#32
  let c1_i32_637 : BitVec 32 := 1#32
  let arg13 : BitVec 32 := Scf.iv c0_i32_635 c1_i32_637 k1_t71
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t73
  let v3026 : BitVec 32 := Scalar.addi v2976 arg46
  let v3102 : Index := Scalar.indexCast v3026
  let c240_1461 : Index := 240#32
  ![v3102.toNat, 240]
def k1_off996 (i : grid1.Coords) (v1310 : BitVec 32) (v1312 : BitVec 32) (k1_t71 : Fin (k1_t71_loop v1310 v1312).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v1310 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond67 (v1310 : BitVec 32) (v1312 : BitVec 32) (k1_t71 : Fin (k1_t71_loop v1310 v1312).trips) : BitVec 1 :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let v2989 : BitVec 1 := Scalar.cmpi .slt v2988 v1334
  let v2990 : BitVec 32 := Scalar.extui v2989
  let c0_i32_1428 : BitVec 32 := 0#32
  let v2991 : BitVec 1 := Scalar.cmpi .ne v2990 c0_i32_1428
  v2991

def k1_off997 (i : grid1.Coords) (v1310 : BitVec 32) (v1312 : BitVec 32) (k1_t71 : Fin (k1_t71_loop v1310 v1312).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v1310 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond68 (v1310 : BitVec 32) (v1312 : BitVec 32) (k1_t71 : Fin (k1_t71_loop v1310 v1312).trips) : BitVec 1 :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let v3050 : BitVec 1 := Scalar.cmpi .slt v3049 v1334
  let v3051 : BitVec 32 := Scalar.extui v3050
  let c0_i32_1457 : BitVec 32 := 0#32
  let v3052 : BitVec 1 := Scalar.cmpi .ne v3051 c0_i32_1457
  v3052

@[reducible] def k1_t74_loop (v1310 : BitVec 32) (v1312 : BitVec 32) (k1_t71 : Fin (k1_t71_loop v1310 v1312).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off998 (v1310 : BitVec 32) (v1312 : BitVec 32) (k1_t71 : Fin (k1_t71_loop v1310 v1312).trips) (k1_t74 : Fin (k1_t74_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t74
  let v3026 : BitVec 32 := Scalar.addi v3015 arg46
  let v3027 : Index := Scalar.indexCast v3026
  let c0_1446 : Index := 0#32
  ![v3027.toNat, 0]
def k1_off999 (v1310 : BitVec 32) (v1312 : BitVec 32) (k1_t71 : Fin (k1_t71_loop v1310 v1312).trips) (k1_t74 : Fin (k1_t74_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t74
  let v3026 : BitVec 32 := Scalar.addi v3015 arg46
  let v3032 : Index := Scalar.indexCast v3026
  let c16_1447 : Index := 16#32
  ![v3032.toNat, 16]
def k1_off1000 (v1310 : BitVec 32) (v1312 : BitVec 32) (k1_t71 : Fin (k1_t71_loop v1310 v1312).trips) (k1_t74 : Fin (k1_t74_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t74
  let v3026 : BitVec 32 := Scalar.addi v3015 arg46
  let v3037 : Index := Scalar.indexCast v3026
  let c32_1448 : Index := 32#32
  ![v3037.toNat, 32]
def k1_off1001 (v1310 : BitVec 32) (v1312 : BitVec 32) (k1_t71 : Fin (k1_t71_loop v1310 v1312).trips) (k1_t74 : Fin (k1_t74_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t74
  let v3026 : BitVec 32 := Scalar.addi v3015 arg46
  let v3042 : Index := Scalar.indexCast v3026
  let c48_1449 : Index := 48#32
  ![v3042.toNat, 48]
def k1_off1002 (v1310 : BitVec 32) (v1312 : BitVec 32) (k1_t71 : Fin (k1_t71_loop v1310 v1312).trips) (k1_t74 : Fin (k1_t74_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t74
  let v3026 : BitVec 32 := Scalar.addi v3015 arg46
  let v3047 : Index := Scalar.indexCast v3026
  let c64_1450 : Index := 64#32
  ![v3047.toNat, 64]
def k1_off1003 (v1310 : BitVec 32) (v1312 : BitVec 32) (k1_t71 : Fin (k1_t71_loop v1310 v1312).trips) (k1_t74 : Fin (k1_t74_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t74
  let v3026 : BitVec 32 := Scalar.addi v3015 arg46
  let v3052 : Index := Scalar.indexCast v3026
  let c80_1451 : Index := 80#32
  ![v3052.toNat, 80]
def k1_off1004 (v1310 : BitVec 32) (v1312 : BitVec 32) (k1_t71 : Fin (k1_t71_loop v1310 v1312).trips) (k1_t74 : Fin (k1_t74_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t74
  let v3026 : BitVec 32 := Scalar.addi v3015 arg46
  let v3057 : Index := Scalar.indexCast v3026
  let c96_1452 : Index := 96#32
  ![v3057.toNat, 96]
def k1_off1005 (v1310 : BitVec 32) (v1312 : BitVec 32) (k1_t71 : Fin (k1_t71_loop v1310 v1312).trips) (k1_t74 : Fin (k1_t74_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t74
  let v3026 : BitVec 32 := Scalar.addi v3015 arg46
  let v3062 : Index := Scalar.indexCast v3026
  let c112_1453 : Index := 112#32
  ![v3062.toNat, 112]
def k1_off1006 (v1310 : BitVec 32) (v1312 : BitVec 32) (k1_t71 : Fin (k1_t71_loop v1310 v1312).trips) (k1_t74 : Fin (k1_t74_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t74
  let v3026 : BitVec 32 := Scalar.addi v3015 arg46
  let v3067 : Index := Scalar.indexCast v3026
  let c128_1454 : Index := 128#32
  ![v3067.toNat, 128]
def k1_off1007 (v1310 : BitVec 32) (v1312 : BitVec 32) (k1_t71 : Fin (k1_t71_loop v1310 v1312).trips) (k1_t74 : Fin (k1_t74_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t74
  let v3026 : BitVec 32 := Scalar.addi v3015 arg46
  let v3072 : Index := Scalar.indexCast v3026
  let c144_1455 : Index := 144#32
  ![v3072.toNat, 144]
def k1_off1008 (v1310 : BitVec 32) (v1312 : BitVec 32) (k1_t71 : Fin (k1_t71_loop v1310 v1312).trips) (k1_t74 : Fin (k1_t74_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t74
  let v3026 : BitVec 32 := Scalar.addi v3015 arg46
  let v3077 : Index := Scalar.indexCast v3026
  let c160_1456 : Index := 160#32
  ![v3077.toNat, 160]
def k1_off1009 (v1310 : BitVec 32) (v1312 : BitVec 32) (k1_t71 : Fin (k1_t71_loop v1310 v1312).trips) (k1_t74 : Fin (k1_t74_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t74
  let v3026 : BitVec 32 := Scalar.addi v3015 arg46
  let v3082 : Index := Scalar.indexCast v3026
  let c176_1457 : Index := 176#32
  ![v3082.toNat, 176]
def k1_off1010 (v1310 : BitVec 32) (v1312 : BitVec 32) (k1_t71 : Fin (k1_t71_loop v1310 v1312).trips) (k1_t74 : Fin (k1_t74_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t74
  let v3026 : BitVec 32 := Scalar.addi v3015 arg46
  let v3087 : Index := Scalar.indexCast v3026
  let c192_1458 : Index := 192#32
  ![v3087.toNat, 192]
def k1_off1011 (v1310 : BitVec 32) (v1312 : BitVec 32) (k1_t71 : Fin (k1_t71_loop v1310 v1312).trips) (k1_t74 : Fin (k1_t74_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t74
  let v3026 : BitVec 32 := Scalar.addi v3015 arg46
  let v3092 : Index := Scalar.indexCast v3026
  let c208_1459 : Index := 208#32
  ![v3092.toNat, 208]
def k1_off1012 (v1310 : BitVec 32) (v1312 : BitVec 32) (k1_t71 : Fin (k1_t71_loop v1310 v1312).trips) (k1_t74 : Fin (k1_t74_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t74
  let v3026 : BitVec 32 := Scalar.addi v3015 arg46
  let v3097 : Index := Scalar.indexCast v3026
  let c224_1460 : Index := 224#32
  ![v3097.toNat, 224]
def k1_off1013 (v1310 : BitVec 32) (v1312 : BitVec 32) (k1_t71 : Fin (k1_t71_loop v1310 v1312).trips) (k1_t74 : Fin (k1_t74_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t74
  let v3026 : BitVec 32 := Scalar.addi v3015 arg46
  let v3102 : Index := Scalar.indexCast v3026
  let c240_1461 : Index := 240#32
  ![v3102.toNat, 240]
@[reducible] def k1_t75_loop (v1310 : BitVec 32) (v1312 : BitVec 32) (k1_t71 : Fin (k1_t71_loop v1310 v1312).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off1014 (v1310 : BitVec 32) (v1312 : BitVec 32) (k1_t71 : Fin (k1_t71_loop v1310 v1312).trips) (k1_t75 : Fin (k1_t75_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t75
  let v3026 : BitVec 32 := Scalar.addi v3015 arg46
  let v3027 : Index := Scalar.indexCast v3026
  let c0_1446 : Index := 0#32
  ![v3027.toNat, 0]
def k1_off1015 (v1310 : BitVec 32) (v1312 : BitVec 32) (k1_t71 : Fin (k1_t71_loop v1310 v1312).trips) (k1_t75 : Fin (k1_t75_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t75
  let v3026 : BitVec 32 := Scalar.addi v3015 arg46
  let v3032 : Index := Scalar.indexCast v3026
  let c16_1447 : Index := 16#32
  ![v3032.toNat, 16]
def k1_off1016 (v1310 : BitVec 32) (v1312 : BitVec 32) (k1_t71 : Fin (k1_t71_loop v1310 v1312).trips) (k1_t75 : Fin (k1_t75_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t75
  let v3026 : BitVec 32 := Scalar.addi v3015 arg46
  let v3037 : Index := Scalar.indexCast v3026
  let c32_1448 : Index := 32#32
  ![v3037.toNat, 32]
def k1_off1017 (v1310 : BitVec 32) (v1312 : BitVec 32) (k1_t71 : Fin (k1_t71_loop v1310 v1312).trips) (k1_t75 : Fin (k1_t75_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t75
  let v3026 : BitVec 32 := Scalar.addi v3015 arg46
  let v3042 : Index := Scalar.indexCast v3026
  let c48_1449 : Index := 48#32
  ![v3042.toNat, 48]
def k1_off1018 (v1310 : BitVec 32) (v1312 : BitVec 32) (k1_t71 : Fin (k1_t71_loop v1310 v1312).trips) (k1_t75 : Fin (k1_t75_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t75
  let v3026 : BitVec 32 := Scalar.addi v3015 arg46
  let v3047 : Index := Scalar.indexCast v3026
  let c64_1450 : Index := 64#32
  ![v3047.toNat, 64]
def k1_off1019 (v1310 : BitVec 32) (v1312 : BitVec 32) (k1_t71 : Fin (k1_t71_loop v1310 v1312).trips) (k1_t75 : Fin (k1_t75_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t75
  let v3026 : BitVec 32 := Scalar.addi v3015 arg46
  let v3052 : Index := Scalar.indexCast v3026
  let c80_1451 : Index := 80#32
  ![v3052.toNat, 80]
def k1_off1020 (v1310 : BitVec 32) (v1312 : BitVec 32) (k1_t71 : Fin (k1_t71_loop v1310 v1312).trips) (k1_t75 : Fin (k1_t75_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t75
  let v3026 : BitVec 32 := Scalar.addi v3015 arg46
  let v3057 : Index := Scalar.indexCast v3026
  let c96_1452 : Index := 96#32
  ![v3057.toNat, 96]
def k1_off1021 (v1310 : BitVec 32) (v1312 : BitVec 32) (k1_t71 : Fin (k1_t71_loop v1310 v1312).trips) (k1_t75 : Fin (k1_t75_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t75
  let v3026 : BitVec 32 := Scalar.addi v3015 arg46
  let v3062 : Index := Scalar.indexCast v3026
  let c112_1453 : Index := 112#32
  ![v3062.toNat, 112]
def k1_off1022 (v1310 : BitVec 32) (v1312 : BitVec 32) (k1_t71 : Fin (k1_t71_loop v1310 v1312).trips) (k1_t75 : Fin (k1_t75_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t75
  let v3026 : BitVec 32 := Scalar.addi v3015 arg46
  let v3067 : Index := Scalar.indexCast v3026
  let c128_1454 : Index := 128#32
  ![v3067.toNat, 128]
def k1_off1023 (v1310 : BitVec 32) (v1312 : BitVec 32) (k1_t71 : Fin (k1_t71_loop v1310 v1312).trips) (k1_t75 : Fin (k1_t75_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t75
  let v3026 : BitVec 32 := Scalar.addi v3015 arg46
  let v3072 : Index := Scalar.indexCast v3026
  let c144_1455 : Index := 144#32
  ![v3072.toNat, 144]
def k1_off1024 (v1310 : BitVec 32) (v1312 : BitVec 32) (k1_t71 : Fin (k1_t71_loop v1310 v1312).trips) (k1_t75 : Fin (k1_t75_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t75
  let v3026 : BitVec 32 := Scalar.addi v3015 arg46
  let v3077 : Index := Scalar.indexCast v3026
  let c160_1456 : Index := 160#32
  ![v3077.toNat, 160]
def k1_off1025 (v1310 : BitVec 32) (v1312 : BitVec 32) (k1_t71 : Fin (k1_t71_loop v1310 v1312).trips) (k1_t75 : Fin (k1_t75_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t75
  let v3026 : BitVec 32 := Scalar.addi v3015 arg46
  let v3082 : Index := Scalar.indexCast v3026
  let c176_1457 : Index := 176#32
  ![v3082.toNat, 176]
def k1_off1026 (v1310 : BitVec 32) (v1312 : BitVec 32) (k1_t71 : Fin (k1_t71_loop v1310 v1312).trips) (k1_t75 : Fin (k1_t75_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t75
  let v3026 : BitVec 32 := Scalar.addi v3015 arg46
  let v3087 : Index := Scalar.indexCast v3026
  let c192_1458 : Index := 192#32
  ![v3087.toNat, 192]
def k1_off1027 (v1310 : BitVec 32) (v1312 : BitVec 32) (k1_t71 : Fin (k1_t71_loop v1310 v1312).trips) (k1_t75 : Fin (k1_t75_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t75
  let v3026 : BitVec 32 := Scalar.addi v3015 arg46
  let v3092 : Index := Scalar.indexCast v3026
  let c208_1459 : Index := 208#32
  ![v3092.toNat, 208]
def k1_off1028 (v1310 : BitVec 32) (v1312 : BitVec 32) (k1_t71 : Fin (k1_t71_loop v1310 v1312).trips) (k1_t75 : Fin (k1_t75_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t75
  let v3026 : BitVec 32 := Scalar.addi v3015 arg46
  let v3097 : Index := Scalar.indexCast v3026
  let c224_1460 : Index := 224#32
  ![v3097.toNat, 224]
def k1_off1029 (v1310 : BitVec 32) (v1312 : BitVec 32) (k1_t71 : Fin (k1_t71_loop v1310 v1312).trips) (k1_t75 : Fin (k1_t75_loop v1310 v1312 k1_t71).trips) : Fin 2 → Nat :=
  let c2_i32_1426 : BitVec 32 := 2#32
  let c0_i32_635 : BitVec 32 := 0#32
  let c1_i32_637 : BitVec 32 := 1#32
  let arg13 : BitVec 32 := Scf.iv c0_i32_635 c1_i32_637 k1_t71
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t75
  let v3026 : BitVec 32 := Scalar.addi v3015 arg46
  let v3102 : Index := Scalar.indexCast v3026
  let c240_1461 : Index := 240#32
  ![v3102.toNat, 240]
@[reducible] def k1_t76_loop (v1310 : BitVec 32) (v1312 : BitVec 32) : Scf.Loop 32 :=
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let v1357 : BitVec 32 := Scalar.addi c0_i32_635 v1356
  let c1_i32_638 : BitVec 32 := 1#32
  ⟨v1360, v1357, c1_i32_638⟩
def k1_off1030 (i : grid1.Coords) (v1310 : BitVec 32) (v1312 : BitVec 32) (k1_t76 : Fin (k1_t76_loop v1310 v1312).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1446 : BitVec 32 := 64#32
  let v3026 : BitVec 32 := Scalar.muli v2949 c64_i32_1446
  let v3027 : BitVec 32 := Scalar.addi v1310 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond69 (v1310 : BitVec 32) (v1312 : BitVec 32) (k1_t76 : Fin (k1_t76_loop v1310 v1312).trips) : BitVec 1 :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let v2950 : BitVec 1 := Scalar.cmpi .slt v2949 v1334
  let v2951 : BitVec 32 := Scalar.extui v2950
  let c0_i32_1409 : BitVec 32 := 0#32
  let v2952 : BitVec 1 := Scalar.cmpi .ne v2951 c0_i32_1409
  v2952

def k1_off1031 (i : grid1.Coords) (v1310 : BitVec 32) (v1312 : BitVec 32) (k1_t76 : Fin (k1_t76_loop v1310 v1312).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v1310 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond70 (v1310 : BitVec 32) (v1312 : BitVec 32) (k1_t76 : Fin (k1_t76_loop v1310 v1312).trips) : BitVec 1 :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c1_i32_1456 : BitVec 32 := 1#32
  let v3049 : BitVec 32 := Scalar.addi v2949 c1_i32_1456
  let v3050 : BitVec 1 := Scalar.cmpi .slt v3049 v1334
  let v3051 : BitVec 32 := Scalar.extui v3050
  let c0_i32_1457 : BitVec 32 := 0#32
  let v3052 : BitVec 1 := Scalar.cmpi .ne v3051 c0_i32_1457
  v3052

@[reducible] def k1_t77_loop (v1310 : BitVec 32) (v1312 : BitVec 32) (k1_t76 : Fin (k1_t76_loop v1310 v1312).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off1032 (v1310 : BitVec 32) (v1312 : BitVec 32) (k1_t76 : Fin (k1_t76_loop v1310 v1312).trips) (k1_t77 : Fin (k1_t77_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t77
  let v3026 : BitVec 32 := Scalar.addi v2976 arg46
  let v3027 : Index := Scalar.indexCast v3026
  let c0_1446 : Index := 0#32
  ![v3027.toNat, 0]
def k1_off1033 (v1310 : BitVec 32) (v1312 : BitVec 32) (k1_t76 : Fin (k1_t76_loop v1310 v1312).trips) (k1_t77 : Fin (k1_t77_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t77
  let v3026 : BitVec 32 := Scalar.addi v2976 arg46
  let v3032 : Index := Scalar.indexCast v3026
  let c16_1447 : Index := 16#32
  ![v3032.toNat, 16]
def k1_off1034 (v1310 : BitVec 32) (v1312 : BitVec 32) (k1_t76 : Fin (k1_t76_loop v1310 v1312).trips) (k1_t77 : Fin (k1_t77_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t77
  let v3026 : BitVec 32 := Scalar.addi v2976 arg46
  let v3037 : Index := Scalar.indexCast v3026
  let c32_1448 : Index := 32#32
  ![v3037.toNat, 32]
def k1_off1035 (v1310 : BitVec 32) (v1312 : BitVec 32) (k1_t76 : Fin (k1_t76_loop v1310 v1312).trips) (k1_t77 : Fin (k1_t77_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t77
  let v3026 : BitVec 32 := Scalar.addi v2976 arg46
  let v3042 : Index := Scalar.indexCast v3026
  let c48_1449 : Index := 48#32
  ![v3042.toNat, 48]
def k1_off1036 (v1310 : BitVec 32) (v1312 : BitVec 32) (k1_t76 : Fin (k1_t76_loop v1310 v1312).trips) (k1_t77 : Fin (k1_t77_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t77
  let v3026 : BitVec 32 := Scalar.addi v2976 arg46
  let v3047 : Index := Scalar.indexCast v3026
  let c64_1450 : Index := 64#32
  ![v3047.toNat, 64]
def k1_off1037 (v1310 : BitVec 32) (v1312 : BitVec 32) (k1_t76 : Fin (k1_t76_loop v1310 v1312).trips) (k1_t77 : Fin (k1_t77_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t77
  let v3026 : BitVec 32 := Scalar.addi v2976 arg46
  let v3052 : Index := Scalar.indexCast v3026
  let c80_1451 : Index := 80#32
  ![v3052.toNat, 80]
def k1_off1038 (v1310 : BitVec 32) (v1312 : BitVec 32) (k1_t76 : Fin (k1_t76_loop v1310 v1312).trips) (k1_t77 : Fin (k1_t77_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t77
  let v3026 : BitVec 32 := Scalar.addi v2976 arg46
  let v3057 : Index := Scalar.indexCast v3026
  let c96_1452 : Index := 96#32
  ![v3057.toNat, 96]
def k1_off1039 (v1310 : BitVec 32) (v1312 : BitVec 32) (k1_t76 : Fin (k1_t76_loop v1310 v1312).trips) (k1_t77 : Fin (k1_t77_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t77
  let v3026 : BitVec 32 := Scalar.addi v2976 arg46
  let v3062 : Index := Scalar.indexCast v3026
  let c112_1453 : Index := 112#32
  ![v3062.toNat, 112]
def k1_off1040 (v1310 : BitVec 32) (v1312 : BitVec 32) (k1_t76 : Fin (k1_t76_loop v1310 v1312).trips) (k1_t77 : Fin (k1_t77_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t77
  let v3026 : BitVec 32 := Scalar.addi v2976 arg46
  let v3067 : Index := Scalar.indexCast v3026
  let c128_1454 : Index := 128#32
  ![v3067.toNat, 128]
def k1_off1041 (v1310 : BitVec 32) (v1312 : BitVec 32) (k1_t76 : Fin (k1_t76_loop v1310 v1312).trips) (k1_t77 : Fin (k1_t77_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t77
  let v3026 : BitVec 32 := Scalar.addi v2976 arg46
  let v3072 : Index := Scalar.indexCast v3026
  let c144_1455 : Index := 144#32
  ![v3072.toNat, 144]
def k1_off1042 (v1310 : BitVec 32) (v1312 : BitVec 32) (k1_t76 : Fin (k1_t76_loop v1310 v1312).trips) (k1_t77 : Fin (k1_t77_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t77
  let v3026 : BitVec 32 := Scalar.addi v2976 arg46
  let v3077 : Index := Scalar.indexCast v3026
  let c160_1456 : Index := 160#32
  ![v3077.toNat, 160]
def k1_off1043 (v1310 : BitVec 32) (v1312 : BitVec 32) (k1_t76 : Fin (k1_t76_loop v1310 v1312).trips) (k1_t77 : Fin (k1_t77_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t77
  let v3026 : BitVec 32 := Scalar.addi v2976 arg46
  let v3082 : Index := Scalar.indexCast v3026
  let c176_1457 : Index := 176#32
  ![v3082.toNat, 176]
def k1_off1044 (v1310 : BitVec 32) (v1312 : BitVec 32) (k1_t76 : Fin (k1_t76_loop v1310 v1312).trips) (k1_t77 : Fin (k1_t77_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t77
  let v3026 : BitVec 32 := Scalar.addi v2976 arg46
  let v3087 : Index := Scalar.indexCast v3026
  let c192_1458 : Index := 192#32
  ![v3087.toNat, 192]
def k1_off1045 (v1310 : BitVec 32) (v1312 : BitVec 32) (k1_t76 : Fin (k1_t76_loop v1310 v1312).trips) (k1_t77 : Fin (k1_t77_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t77
  let v3026 : BitVec 32 := Scalar.addi v2976 arg46
  let v3092 : Index := Scalar.indexCast v3026
  let c208_1459 : Index := 208#32
  ![v3092.toNat, 208]
def k1_off1046 (v1310 : BitVec 32) (v1312 : BitVec 32) (k1_t76 : Fin (k1_t76_loop v1310 v1312).trips) (k1_t77 : Fin (k1_t77_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t77
  let v3026 : BitVec 32 := Scalar.addi v2976 arg46
  let v3097 : Index := Scalar.indexCast v3026
  let c224_1460 : Index := 224#32
  ![v3097.toNat, 224]
def k1_off1047 (v1310 : BitVec 32) (v1312 : BitVec 32) (k1_t76 : Fin (k1_t76_loop v1310 v1312).trips) (k1_t77 : Fin (k1_t77_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t77
  let v3026 : BitVec 32 := Scalar.addi v2976 arg46
  let v3102 : Index := Scalar.indexCast v3026
  let c240_1461 : Index := 240#32
  ![v3102.toNat, 240]
@[reducible] def k1_t78_loop (v1310 : BitVec 32) (v1312 : BitVec 32) (k1_t76 : Fin (k1_t76_loop v1310 v1312).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off1048 (v1310 : BitVec 32) (v1312 : BitVec 32) (k1_t76 : Fin (k1_t76_loop v1310 v1312).trips) (k1_t78 : Fin (k1_t78_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t78
  let v3026 : BitVec 32 := Scalar.addi v2976 arg46
  let v3027 : Index := Scalar.indexCast v3026
  let c0_1446 : Index := 0#32
  ![v3027.toNat, 0]
def k1_off1049 (v1310 : BitVec 32) (v1312 : BitVec 32) (k1_t76 : Fin (k1_t76_loop v1310 v1312).trips) (k1_t78 : Fin (k1_t78_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t78
  let v3026 : BitVec 32 := Scalar.addi v2976 arg46
  let v3032 : Index := Scalar.indexCast v3026
  let c16_1447 : Index := 16#32
  ![v3032.toNat, 16]
def k1_off1050 (v1310 : BitVec 32) (v1312 : BitVec 32) (k1_t76 : Fin (k1_t76_loop v1310 v1312).trips) (k1_t78 : Fin (k1_t78_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t78
  let v3026 : BitVec 32 := Scalar.addi v2976 arg46
  let v3037 : Index := Scalar.indexCast v3026
  let c32_1448 : Index := 32#32
  ![v3037.toNat, 32]
def k1_off1051 (v1310 : BitVec 32) (v1312 : BitVec 32) (k1_t76 : Fin (k1_t76_loop v1310 v1312).trips) (k1_t78 : Fin (k1_t78_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t78
  let v3026 : BitVec 32 := Scalar.addi v2976 arg46
  let v3042 : Index := Scalar.indexCast v3026
  let c48_1449 : Index := 48#32
  ![v3042.toNat, 48]
def k1_off1052 (v1310 : BitVec 32) (v1312 : BitVec 32) (k1_t76 : Fin (k1_t76_loop v1310 v1312).trips) (k1_t78 : Fin (k1_t78_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t78
  let v3026 : BitVec 32 := Scalar.addi v2976 arg46
  let v3047 : Index := Scalar.indexCast v3026
  let c64_1450 : Index := 64#32
  ![v3047.toNat, 64]
def k1_off1053 (v1310 : BitVec 32) (v1312 : BitVec 32) (k1_t76 : Fin (k1_t76_loop v1310 v1312).trips) (k1_t78 : Fin (k1_t78_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t78
  let v3026 : BitVec 32 := Scalar.addi v2976 arg46
  let v3052 : Index := Scalar.indexCast v3026
  let c80_1451 : Index := 80#32
  ![v3052.toNat, 80]
def k1_off1054 (v1310 : BitVec 32) (v1312 : BitVec 32) (k1_t76 : Fin (k1_t76_loop v1310 v1312).trips) (k1_t78 : Fin (k1_t78_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t78
  let v3026 : BitVec 32 := Scalar.addi v2976 arg46
  let v3057 : Index := Scalar.indexCast v3026
  let c96_1452 : Index := 96#32
  ![v3057.toNat, 96]
def k1_off1055 (v1310 : BitVec 32) (v1312 : BitVec 32) (k1_t76 : Fin (k1_t76_loop v1310 v1312).trips) (k1_t78 : Fin (k1_t78_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t78
  let v3026 : BitVec 32 := Scalar.addi v2976 arg46
  let v3062 : Index := Scalar.indexCast v3026
  let c112_1453 : Index := 112#32
  ![v3062.toNat, 112]
def k1_off1056 (v1310 : BitVec 32) (v1312 : BitVec 32) (k1_t76 : Fin (k1_t76_loop v1310 v1312).trips) (k1_t78 : Fin (k1_t78_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t78
  let v3026 : BitVec 32 := Scalar.addi v2976 arg46
  let v3067 : Index := Scalar.indexCast v3026
  let c128_1454 : Index := 128#32
  ![v3067.toNat, 128]
def k1_off1057 (v1310 : BitVec 32) (v1312 : BitVec 32) (k1_t76 : Fin (k1_t76_loop v1310 v1312).trips) (k1_t78 : Fin (k1_t78_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t78
  let v3026 : BitVec 32 := Scalar.addi v2976 arg46
  let v3072 : Index := Scalar.indexCast v3026
  let c144_1455 : Index := 144#32
  ![v3072.toNat, 144]
def k1_off1058 (v1310 : BitVec 32) (v1312 : BitVec 32) (k1_t76 : Fin (k1_t76_loop v1310 v1312).trips) (k1_t78 : Fin (k1_t78_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t78
  let v3026 : BitVec 32 := Scalar.addi v2976 arg46
  let v3077 : Index := Scalar.indexCast v3026
  let c160_1456 : Index := 160#32
  ![v3077.toNat, 160]
def k1_off1059 (v1310 : BitVec 32) (v1312 : BitVec 32) (k1_t76 : Fin (k1_t76_loop v1310 v1312).trips) (k1_t78 : Fin (k1_t78_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t78
  let v3026 : BitVec 32 := Scalar.addi v2976 arg46
  let v3082 : Index := Scalar.indexCast v3026
  let c176_1457 : Index := 176#32
  ![v3082.toNat, 176]
def k1_off1060 (v1310 : BitVec 32) (v1312 : BitVec 32) (k1_t76 : Fin (k1_t76_loop v1310 v1312).trips) (k1_t78 : Fin (k1_t78_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t78
  let v3026 : BitVec 32 := Scalar.addi v2976 arg46
  let v3087 : Index := Scalar.indexCast v3026
  let c192_1458 : Index := 192#32
  ![v3087.toNat, 192]
def k1_off1061 (v1310 : BitVec 32) (v1312 : BitVec 32) (k1_t76 : Fin (k1_t76_loop v1310 v1312).trips) (k1_t78 : Fin (k1_t78_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t78
  let v3026 : BitVec 32 := Scalar.addi v2976 arg46
  let v3092 : Index := Scalar.indexCast v3026
  let c208_1459 : Index := 208#32
  ![v3092.toNat, 208]
def k1_off1062 (v1310 : BitVec 32) (v1312 : BitVec 32) (k1_t76 : Fin (k1_t76_loop v1310 v1312).trips) (k1_t78 : Fin (k1_t78_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t78
  let v3026 : BitVec 32 := Scalar.addi v2976 arg46
  let v3097 : Index := Scalar.indexCast v3026
  let c224_1460 : Index := 224#32
  ![v3097.toNat, 224]
def k1_off1063 (v1310 : BitVec 32) (v1312 : BitVec 32) (k1_t76 : Fin (k1_t76_loop v1310 v1312).trips) (k1_t78 : Fin (k1_t78_loop v1310 v1312 k1_t76).trips) : Fin 2 → Nat :=
  let c2_i32_1408 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2949 : BitVec 32 := Scalar.muli c2_i32_1408 arg13
  let c64_i32_1410 : BitVec 32 := 64#32
  let v2953 : BitVec 32 := Scalar.muli v2949 c64_i32_1410
  let v2954 : BitVec 32 := Scalar.addi v1310 v2953
  let c64_i32_1411 : BitVec 32 := 64#32
  let v2955 : BitVec 32 := Scalar.muli v2949 c64_i32_1411
  let v2956 : BitVec 32 := Scalar.addi v1310 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1312 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t78
  let v3026 : BitVec 32 := Scalar.addi v2976 arg46
  let v3102 : Index := Scalar.indexCast v3026
  let c240_1461 : Index := 240#32
  ![v3102.toNat, 240]
def k1_off1064 (i : grid1.Coords) (v1310 : BitVec 32) (v1312 : BitVec 32) (k1_t76 : Fin (k1_t76_loop v1310 v1312).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v1310 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond71 (v1310 : BitVec 32) (v1312 : BitVec 32) (k1_t76 : Fin (k1_t76_loop v1310 v1312).trips) : BitVec 1 :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let v2989 : BitVec 1 := Scalar.cmpi .slt v2988 v1334
  let v2990 : BitVec 32 := Scalar.extui v2989
  let c0_i32_1428 : BitVec 32 := 0#32
  let v2991 : BitVec 1 := Scalar.cmpi .ne v2990 c0_i32_1428
  v2991

def k1_off1065 (i : grid1.Coords) (v1310 : BitVec 32) (v1312 : BitVec 32) (k1_t76 : Fin (k1_t76_loop v1310 v1312).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v1310 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond72 (v1310 : BitVec 32) (v1312 : BitVec 32) (k1_t76 : Fin (k1_t76_loop v1310 v1312).trips) : BitVec 1 :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v3050 : BitVec 1 := Scalar.cmpi .slt v3049 v1334
  let v3051 : BitVec 32 := Scalar.extui v3050
  let c0_i32_1457 : BitVec 32 := 0#32
  let v3052 : BitVec 1 := Scalar.cmpi .ne v3051 c0_i32_1457
  v3052

@[reducible] def k1_t79_loop (v1310 : BitVec 32) (v1312 : BitVec 32) (k1_t76 : Fin (k1_t76_loop v1310 v1312).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off1066 (v1310 : BitVec 32) (v1312 : BitVec 32) (k1_t76 : Fin (k1_t76_loop v1310 v1312).trips) (k1_t79 : Fin (k1_t79_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t79
  let v3026 : BitVec 32 := Scalar.addi v3015 arg46
  let v3027 : Index := Scalar.indexCast v3026
  let c0_1446 : Index := 0#32
  ![v3027.toNat, 0]
def k1_off1067 (v1310 : BitVec 32) (v1312 : BitVec 32) (k1_t76 : Fin (k1_t76_loop v1310 v1312).trips) (k1_t79 : Fin (k1_t79_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t79
  let v3026 : BitVec 32 := Scalar.addi v3015 arg46
  let v3032 : Index := Scalar.indexCast v3026
  let c16_1447 : Index := 16#32
  ![v3032.toNat, 16]
def k1_off1068 (v1310 : BitVec 32) (v1312 : BitVec 32) (k1_t76 : Fin (k1_t76_loop v1310 v1312).trips) (k1_t79 : Fin (k1_t79_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t79
  let v3026 : BitVec 32 := Scalar.addi v3015 arg46
  let v3037 : Index := Scalar.indexCast v3026
  let c32_1448 : Index := 32#32
  ![v3037.toNat, 32]
def k1_off1069 (v1310 : BitVec 32) (v1312 : BitVec 32) (k1_t76 : Fin (k1_t76_loop v1310 v1312).trips) (k1_t79 : Fin (k1_t79_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t79
  let v3026 : BitVec 32 := Scalar.addi v3015 arg46
  let v3042 : Index := Scalar.indexCast v3026
  let c48_1449 : Index := 48#32
  ![v3042.toNat, 48]
def k1_off1070 (v1310 : BitVec 32) (v1312 : BitVec 32) (k1_t76 : Fin (k1_t76_loop v1310 v1312).trips) (k1_t79 : Fin (k1_t79_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t79
  let v3026 : BitVec 32 := Scalar.addi v3015 arg46
  let v3047 : Index := Scalar.indexCast v3026
  let c64_1450 : Index := 64#32
  ![v3047.toNat, 64]
def k1_off1071 (v1310 : BitVec 32) (v1312 : BitVec 32) (k1_t76 : Fin (k1_t76_loop v1310 v1312).trips) (k1_t79 : Fin (k1_t79_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t79
  let v3026 : BitVec 32 := Scalar.addi v3015 arg46
  let v3052 : Index := Scalar.indexCast v3026
  let c80_1451 : Index := 80#32
  ![v3052.toNat, 80]
def k1_off1072 (v1310 : BitVec 32) (v1312 : BitVec 32) (k1_t76 : Fin (k1_t76_loop v1310 v1312).trips) (k1_t79 : Fin (k1_t79_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t79
  let v3026 : BitVec 32 := Scalar.addi v3015 arg46
  let v3057 : Index := Scalar.indexCast v3026
  let c96_1452 : Index := 96#32
  ![v3057.toNat, 96]
def k1_off1073 (v1310 : BitVec 32) (v1312 : BitVec 32) (k1_t76 : Fin (k1_t76_loop v1310 v1312).trips) (k1_t79 : Fin (k1_t79_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t79
  let v3026 : BitVec 32 := Scalar.addi v3015 arg46
  let v3062 : Index := Scalar.indexCast v3026
  let c112_1453 : Index := 112#32
  ![v3062.toNat, 112]
def k1_off1074 (v1310 : BitVec 32) (v1312 : BitVec 32) (k1_t76 : Fin (k1_t76_loop v1310 v1312).trips) (k1_t79 : Fin (k1_t79_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t79
  let v3026 : BitVec 32 := Scalar.addi v3015 arg46
  let v3067 : Index := Scalar.indexCast v3026
  let c128_1454 : Index := 128#32
  ![v3067.toNat, 128]
def k1_off1075 (v1310 : BitVec 32) (v1312 : BitVec 32) (k1_t76 : Fin (k1_t76_loop v1310 v1312).trips) (k1_t79 : Fin (k1_t79_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t79
  let v3026 : BitVec 32 := Scalar.addi v3015 arg46
  let v3072 : Index := Scalar.indexCast v3026
  let c144_1455 : Index := 144#32
  ![v3072.toNat, 144]
def k1_off1076 (v1310 : BitVec 32) (v1312 : BitVec 32) (k1_t76 : Fin (k1_t76_loop v1310 v1312).trips) (k1_t79 : Fin (k1_t79_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t79
  let v3026 : BitVec 32 := Scalar.addi v3015 arg46
  let v3077 : Index := Scalar.indexCast v3026
  let c160_1456 : Index := 160#32
  ![v3077.toNat, 160]
def k1_off1077 (v1310 : BitVec 32) (v1312 : BitVec 32) (k1_t76 : Fin (k1_t76_loop v1310 v1312).trips) (k1_t79 : Fin (k1_t79_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t79
  let v3026 : BitVec 32 := Scalar.addi v3015 arg46
  let v3082 : Index := Scalar.indexCast v3026
  let c176_1457 : Index := 176#32
  ![v3082.toNat, 176]
def k1_off1078 (v1310 : BitVec 32) (v1312 : BitVec 32) (k1_t76 : Fin (k1_t76_loop v1310 v1312).trips) (k1_t79 : Fin (k1_t79_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t79
  let v3026 : BitVec 32 := Scalar.addi v3015 arg46
  let v3087 : Index := Scalar.indexCast v3026
  let c192_1458 : Index := 192#32
  ![v3087.toNat, 192]
def k1_off1079 (v1310 : BitVec 32) (v1312 : BitVec 32) (k1_t76 : Fin (k1_t76_loop v1310 v1312).trips) (k1_t79 : Fin (k1_t79_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t79
  let v3026 : BitVec 32 := Scalar.addi v3015 arg46
  let v3092 : Index := Scalar.indexCast v3026
  let c208_1459 : Index := 208#32
  ![v3092.toNat, 208]
def k1_off1080 (v1310 : BitVec 32) (v1312 : BitVec 32) (k1_t76 : Fin (k1_t76_loop v1310 v1312).trips) (k1_t79 : Fin (k1_t79_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t79
  let v3026 : BitVec 32 := Scalar.addi v3015 arg46
  let v3097 : Index := Scalar.indexCast v3026
  let c224_1460 : Index := 224#32
  ![v3097.toNat, 224]
def k1_off1081 (v1310 : BitVec 32) (v1312 : BitVec 32) (k1_t76 : Fin (k1_t76_loop v1310 v1312).trips) (k1_t79 : Fin (k1_t79_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t79
  let v3026 : BitVec 32 := Scalar.addi v3015 arg46
  let v3102 : Index := Scalar.indexCast v3026
  let c240_1461 : Index := 240#32
  ![v3102.toNat, 240]
@[reducible] def k1_t80_loop (v1310 : BitVec 32) (v1312 : BitVec 32) (k1_t76 : Fin (k1_t76_loop v1310 v1312).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off1082 (v1310 : BitVec 32) (v1312 : BitVec 32) (k1_t76 : Fin (k1_t76_loop v1310 v1312).trips) (k1_t80 : Fin (k1_t80_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t80
  let v3026 : BitVec 32 := Scalar.addi v3015 arg46
  let v3027 : Index := Scalar.indexCast v3026
  let c0_1446 : Index := 0#32
  ![v3027.toNat, 0]
def k1_off1083 (v1310 : BitVec 32) (v1312 : BitVec 32) (k1_t76 : Fin (k1_t76_loop v1310 v1312).trips) (k1_t80 : Fin (k1_t80_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t80
  let v3026 : BitVec 32 := Scalar.addi v3015 arg46
  let v3032 : Index := Scalar.indexCast v3026
  let c16_1447 : Index := 16#32
  ![v3032.toNat, 16]
def k1_off1084 (v1310 : BitVec 32) (v1312 : BitVec 32) (k1_t76 : Fin (k1_t76_loop v1310 v1312).trips) (k1_t80 : Fin (k1_t80_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t80
  let v3026 : BitVec 32 := Scalar.addi v3015 arg46
  let v3037 : Index := Scalar.indexCast v3026
  let c32_1448 : Index := 32#32
  ![v3037.toNat, 32]
def k1_off1085 (v1310 : BitVec 32) (v1312 : BitVec 32) (k1_t76 : Fin (k1_t76_loop v1310 v1312).trips) (k1_t80 : Fin (k1_t80_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t80
  let v3026 : BitVec 32 := Scalar.addi v3015 arg46
  let v3042 : Index := Scalar.indexCast v3026
  let c48_1449 : Index := 48#32
  ![v3042.toNat, 48]
def k1_off1086 (v1310 : BitVec 32) (v1312 : BitVec 32) (k1_t76 : Fin (k1_t76_loop v1310 v1312).trips) (k1_t80 : Fin (k1_t80_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t80
  let v3026 : BitVec 32 := Scalar.addi v3015 arg46
  let v3047 : Index := Scalar.indexCast v3026
  let c64_1450 : Index := 64#32
  ![v3047.toNat, 64]
def k1_off1087 (v1310 : BitVec 32) (v1312 : BitVec 32) (k1_t76 : Fin (k1_t76_loop v1310 v1312).trips) (k1_t80 : Fin (k1_t80_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t80
  let v3026 : BitVec 32 := Scalar.addi v3015 arg46
  let v3052 : Index := Scalar.indexCast v3026
  let c80_1451 : Index := 80#32
  ![v3052.toNat, 80]
def k1_off1088 (v1310 : BitVec 32) (v1312 : BitVec 32) (k1_t76 : Fin (k1_t76_loop v1310 v1312).trips) (k1_t80 : Fin (k1_t80_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t80
  let v3026 : BitVec 32 := Scalar.addi v3015 arg46
  let v3057 : Index := Scalar.indexCast v3026
  let c96_1452 : Index := 96#32
  ![v3057.toNat, 96]
def k1_off1089 (v1310 : BitVec 32) (v1312 : BitVec 32) (k1_t76 : Fin (k1_t76_loop v1310 v1312).trips) (k1_t80 : Fin (k1_t80_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t80
  let v3026 : BitVec 32 := Scalar.addi v3015 arg46
  let v3062 : Index := Scalar.indexCast v3026
  let c112_1453 : Index := 112#32
  ![v3062.toNat, 112]
def k1_off1090 (v1310 : BitVec 32) (v1312 : BitVec 32) (k1_t76 : Fin (k1_t76_loop v1310 v1312).trips) (k1_t80 : Fin (k1_t80_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t80
  let v3026 : BitVec 32 := Scalar.addi v3015 arg46
  let v3067 : Index := Scalar.indexCast v3026
  let c128_1454 : Index := 128#32
  ![v3067.toNat, 128]
def k1_off1091 (v1310 : BitVec 32) (v1312 : BitVec 32) (k1_t76 : Fin (k1_t76_loop v1310 v1312).trips) (k1_t80 : Fin (k1_t80_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t80
  let v3026 : BitVec 32 := Scalar.addi v3015 arg46
  let v3072 : Index := Scalar.indexCast v3026
  let c144_1455 : Index := 144#32
  ![v3072.toNat, 144]
def k1_off1092 (v1310 : BitVec 32) (v1312 : BitVec 32) (k1_t76 : Fin (k1_t76_loop v1310 v1312).trips) (k1_t80 : Fin (k1_t80_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t80
  let v3026 : BitVec 32 := Scalar.addi v3015 arg46
  let v3077 : Index := Scalar.indexCast v3026
  let c160_1456 : Index := 160#32
  ![v3077.toNat, 160]
def k1_off1093 (v1310 : BitVec 32) (v1312 : BitVec 32) (k1_t76 : Fin (k1_t76_loop v1310 v1312).trips) (k1_t80 : Fin (k1_t80_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t80
  let v3026 : BitVec 32 := Scalar.addi v3015 arg46
  let v3082 : Index := Scalar.indexCast v3026
  let c176_1457 : Index := 176#32
  ![v3082.toNat, 176]
def k1_off1094 (v1310 : BitVec 32) (v1312 : BitVec 32) (k1_t76 : Fin (k1_t76_loop v1310 v1312).trips) (k1_t80 : Fin (k1_t80_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t80
  let v3026 : BitVec 32 := Scalar.addi v3015 arg46
  let v3087 : Index := Scalar.indexCast v3026
  let c192_1458 : Index := 192#32
  ![v3087.toNat, 192]
def k1_off1095 (v1310 : BitVec 32) (v1312 : BitVec 32) (k1_t76 : Fin (k1_t76_loop v1310 v1312).trips) (k1_t80 : Fin (k1_t80_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t80
  let v3026 : BitVec 32 := Scalar.addi v3015 arg46
  let v3092 : Index := Scalar.indexCast v3026
  let c208_1459 : Index := 208#32
  ![v3092.toNat, 208]
def k1_off1096 (v1310 : BitVec 32) (v1312 : BitVec 32) (k1_t76 : Fin (k1_t76_loop v1310 v1312).trips) (k1_t80 : Fin (k1_t80_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t80
  let v3026 : BitVec 32 := Scalar.addi v3015 arg46
  let v3097 : Index := Scalar.indexCast v3026
  let c224_1460 : Index := 224#32
  ![v3097.toNat, 224]
def k1_off1097 (v1310 : BitVec 32) (v1312 : BitVec 32) (k1_t76 : Fin (k1_t76_loop v1310 v1312).trips) (k1_t80 : Fin (k1_t80_loop v1310 v1312 k1_t76).trips) : Fin 2 → Nat :=
  let c2_i32_1426 : BitVec 32 := 2#32
  let c0_i32_635 : BitVec 32 := 0#32
  let v1315 : BitVec 32 := Scalar.subi v1312 v1310
  let c64_i32_616 : BitVec 32 := 64#32
  let v1316 : BitVec 32 := Scalar.addi v1315 c64_i32_616
  let c1_i32_617 : BitVec 32 := 1#32
  let v1317 : BitVec 32 := Scalar.subi v1316 c1_i32_617
  let c0_i32_619 : BitVec 32 := 0#32
  let v1319 : BitVec 1 := Scalar.cmpi .sgt v1317 c0_i32_619
  let v1320 : BitVec 32 := Scalar.extui v1319
  let c0_i32_620 : BitVec 32 := 0#32
  let v1321 : BitVec 1 := Scalar.cmpi .slt v1317 c0_i32_620
  let v1322 : BitVec 32 := Scalar.extui v1321
  let v1323 : BitVec 32 := Scalar.subi v1320 v1322
  let c64_i32_618 : BitVec 32 := 64#32
  let c0_i32_621 : BitVec 32 := 0#32
  let v1324 : BitVec 1 := Scalar.cmpi .sgt c64_i32_618 c0_i32_621
  let v1325 : BitVec 32 := Scalar.extui v1324
  let c0_i32_622 : BitVec 32 := 0#32
  let v1326 : BitVec 1 := Scalar.cmpi .slt c64_i32_618 c0_i32_622
  let v1327 : BitVec 32 := Scalar.extui v1326
  let v1328 : BitVec 32 := Scalar.subi v1325 v1327
  let v1329 : BitVec 1 := Scalar.cmpi .ne v1323 v1328
  let v1330 : BitVec 32 := Scalar.remsi v1317 c64_i32_618
  let c0_i32_623 : BitVec 32 := 0#32
  let v1331 : BitVec 1 := Scalar.cmpi .ne v1330 c0_i32_623
  let v1332 : BitVec 1 := Scalar.andi v1329 v1331
  let v1318 : BitVec 32 := Scalar.divsi v1317 c64_i32_618
  let c1_i32_624 : BitVec 32 := 1#32
  let v1333 : BitVec 32 := Scalar.subi v1318 c1_i32_624
  let v1334 : BitVec 32 := Scalar.select v1332 v1333 v1318
  let c1_i32_627 : BitVec 32 := 1#32
  let v1338 : BitVec 32 := Scalar.addi v1334 c1_i32_627
  let c0_i32_629 : BitVec 32 := 0#32
  let v1340 : BitVec 1 := Scalar.cmpi .sgt v1338 c0_i32_629
  let v1341 : BitVec 32 := Scalar.extui v1340
  let c0_i32_630 : BitVec 32 := 0#32
  let v1342 : BitVec 1 := Scalar.cmpi .slt v1338 c0_i32_630
  let v1343 : BitVec 32 := Scalar.extui v1342
  let v1344 : BitVec 32 := Scalar.subi v1341 v1343
  let c2_i32_628 : BitVec 32 := 2#32
  let c0_i32_631 : BitVec 32 := 0#32
  let v1345 : BitVec 1 := Scalar.cmpi .sgt c2_i32_628 c0_i32_631
  let v1346 : BitVec 32 := Scalar.extui v1345
  let c0_i32_632 : BitVec 32 := 0#32
  let v1347 : BitVec 1 := Scalar.cmpi .slt c2_i32_628 c0_i32_632
  let v1348 : BitVec 32 := Scalar.extui v1347
  let v1349 : BitVec 32 := Scalar.subi v1346 v1348
  let v1350 : BitVec 1 := Scalar.cmpi .ne v1344 v1349
  let v1351 : BitVec 32 := Scalar.remsi v1338 c2_i32_628
  let c0_i32_633 : BitVec 32 := 0#32
  let v1352 : BitVec 1 := Scalar.cmpi .ne v1351 c0_i32_633
  let v1353 : BitVec 1 := Scalar.andi v1350 v1352
  let v1339 : BitVec 32 := Scalar.divsi v1338 c2_i32_628
  let c1_i32_634 : BitVec 32 := 1#32
  let v1354 : BitVec 32 := Scalar.subi v1339 c1_i32_634
  let v1355 : BitVec 32 := Scalar.select v1353 v1354 v1339
  let v1356 : BitVec 32 := Scalar.subi v1355 c0_i32_635
  let c1_i32_636 : BitVec 32 := 1#32
  let v1358 : BitVec 32 := Scalar.divsi v1356 c1_i32_636
  let v1359 : BitVec 32 := Scalar.muli v1358 c1_i32_636
  let v1360 : BitVec 32 := Scalar.addi c0_i32_635 v1359
  let c1_i32_638 : BitVec 32 := 1#32
  let arg13 : BitVec 32 := Scf.iv v1360 c1_i32_638 k1_t76
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1310 v2992
  let c64_i32_1430 : BitVec 32 := 64#32
  let v2994 : BitVec 32 := Scalar.muli v2988 c64_i32_1430
  let v2995 : BitVec 32 := Scalar.addi v1310 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1312 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t80
  let v3026 : BitVec 32 := Scalar.addi v3015 arg46
  let v3102 : Index := Scalar.indexCast v3026
  let c240_1461 : Index := 240#32
  ![v3102.toNat, 240]

def k1_chk8_0 (i : grid1.Coords) (v1310 : BitVec 32) (v1312 : BitVec 32) : Prop :=
  (∀ (k1_h64 : k1_cond64 v1310 v1312 = 1#1), ∀ a, (k1_off961 i v1310) a + S72x256.size a ≤ S100000x512.size a) ∧
  ((k1_t71_loop v1310 v1312).OK) ∧
  (∀ k1_t71 : Fin (k1_t71_loop v1310 v1312).trips, ∀ (k1_h65 : k1_cond65 v1310 v1312 k1_t71 = 1#1), ∀ a, (k1_off962 i v1310 v1312 k1_t71) a + S72x256.size a ≤ S100000x512.size a) ∧
  (∀ k1_t71 : Fin (k1_t71_loop v1310 v1312).trips, ∀ (k1_h65 : k1_cond65 v1310 v1312 k1_t71 = 1#1), ∀ (k1_h66 : k1_cond66 v1310 v1312 k1_t71 = 1#1), ∀ a, (k1_off963 i v1310 v1312 k1_t71) a + S72x256.size a ≤ S100000x512.size a) ∧
  (∀ k1_t71 : Fin (k1_t71_loop v1310 v1312).trips, (k1_t72_loop v1310 v1312 k1_t71).OK) ∧
  (∀ (k1_t71 : Fin (k1_t71_loop v1310 v1312).trips) (k1_t72 : Fin (k1_t72_loop v1310 v1312 k1_t71).trips), ∀ a, (k1_off964 v1310 v1312 k1_t71 k1_t72) a + S1x16.size a ≤ S72x256.size a) ∧
  (∀ (k1_t71 : Fin (k1_t71_loop v1310 v1312).trips) (k1_t72 : Fin (k1_t72_loop v1310 v1312 k1_t71).trips), ∀ a, (k1_off965 v1310 v1312 k1_t71 k1_t72) a + S1x16.size a ≤ S72x256.size a) ∧
  (∀ (k1_t71 : Fin (k1_t71_loop v1310 v1312).trips) (k1_t72 : Fin (k1_t72_loop v1310 v1312 k1_t71).trips), ∀ a, (k1_off966 v1310 v1312 k1_t71 k1_t72) a + S1x16.size a ≤ S72x256.size a) ∧
  (∀ (k1_t71 : Fin (k1_t71_loop v1310 v1312).trips) (k1_t72 : Fin (k1_t72_loop v1310 v1312 k1_t71).trips), ∀ a, (k1_off967 v1310 v1312 k1_t71 k1_t72) a + S1x16.size a ≤ S72x256.size a) ∧
  (∀ (k1_t71 : Fin (k1_t71_loop v1310 v1312).trips) (k1_t72 : Fin (k1_t72_loop v1310 v1312 k1_t71).trips), ∀ a, (k1_off968 v1310 v1312 k1_t71 k1_t72) a + S1x16.size a ≤ S72x256.size a) ∧
  (∀ (k1_t71 : Fin (k1_t71_loop v1310 v1312).trips) (k1_t72 : Fin (k1_t72_loop v1310 v1312 k1_t71).trips), ∀ a, (k1_off969 v1310 v1312 k1_t71 k1_t72) a + S1x16.size a ≤ S72x256.size a) ∧
  (∀ (k1_t71 : Fin (k1_t71_loop v1310 v1312).trips) (k1_t72 : Fin (k1_t72_loop v1310 v1312 k1_t71).trips), ∀ a, (k1_off970 v1310 v1312 k1_t71 k1_t72) a + S1x16.size a ≤ S72x256.size a) ∧
  (∀ (k1_t71 : Fin (k1_t71_loop v1310 v1312).trips) (k1_t72 : Fin (k1_t72_loop v1310 v1312 k1_t71).trips), ∀ a, (k1_off971 v1310 v1312 k1_t71 k1_t72) a + S1x16.size a ≤ S72x256.size a) ∧
  (∀ (k1_t71 : Fin (k1_t71_loop v1310 v1312).trips) (k1_t72 : Fin (k1_t72_loop v1310 v1312 k1_t71).trips), ∀ a, (k1_off972 v1310 v1312 k1_t71 k1_t72) a + S1x16.size a ≤ S72x256.size a) ∧
  (∀ (k1_t71 : Fin (k1_t71_loop v1310 v1312).trips) (k1_t72 : Fin (k1_t72_loop v1310 v1312 k1_t71).trips), ∀ a, (k1_off973 v1310 v1312 k1_t71 k1_t72) a + S1x16.size a ≤ S72x256.size a) ∧
  (∀ (k1_t71 : Fin (k1_t71_loop v1310 v1312).trips) (k1_t72 : Fin (k1_t72_loop v1310 v1312 k1_t71).trips), ∀ a, (k1_off974 v1310 v1312 k1_t71 k1_t72) a + S1x16.size a ≤ S72x256.size a) ∧
  (∀ (k1_t71 : Fin (k1_t71_loop v1310 v1312).trips) (k1_t72 : Fin (k1_t72_loop v1310 v1312 k1_t71).trips), ∀ a, (k1_off975 v1310 v1312 k1_t71 k1_t72) a + S1x16.size a ≤ S72x256.size a) ∧
  (∀ (k1_t71 : Fin (k1_t71_loop v1310 v1312).trips) (k1_t72 : Fin (k1_t72_loop v1310 v1312 k1_t71).trips), ∀ a, (k1_off976 v1310 v1312 k1_t71 k1_t72) a + S1x16.size a ≤ S72x256.size a) ∧
  (∀ (k1_t71 : Fin (k1_t71_loop v1310 v1312).trips) (k1_t72 : Fin (k1_t72_loop v1310 v1312 k1_t71).trips), ∀ a, (k1_off977 v1310 v1312 k1_t71 k1_t72) a + S1x16.size a ≤ S72x256.size a) ∧
  (∀ (k1_t71 : Fin (k1_t71_loop v1310 v1312).trips) (k1_t72 : Fin (k1_t72_loop v1310 v1312 k1_t71).trips), ∀ a, (k1_off978 v1310 v1312 k1_t71 k1_t72) a + S1x16.size a ≤ S72x256.size a) ∧
  (∀ (k1_t71 : Fin (k1_t71_loop v1310 v1312).trips) (k1_t72 : Fin (k1_t72_loop v1310 v1312 k1_t71).trips), ∀ a, (k1_off979 v1310 v1312 k1_t71 k1_t72) a + S1x16.size a ≤ S72x256.size a) ∧
  (∀ k1_t71 : Fin (k1_t71_loop v1310 v1312).trips, (k1_t73_loop v1310 v1312 k1_t71).OK) ∧
  (∀ (k1_t71 : Fin (k1_t71_loop v1310 v1312).trips) (k1_t73 : Fin (k1_t73_loop v1310 v1312 k1_t71).trips), ∀ a, (k1_off980 v1310 v1312 k1_t71 k1_t73) a + S1x16.size a ≤ S72x256.size a) ∧
  (∀ (k1_t71 : Fin (k1_t71_loop v1310 v1312).trips) (k1_t73 : Fin (k1_t73_loop v1310 v1312 k1_t71).trips), ∀ a, (k1_off981 v1310 v1312 k1_t71 k1_t73) a + S1x16.size a ≤ S72x256.size a) ∧
  (∀ (k1_t71 : Fin (k1_t71_loop v1310 v1312).trips) (k1_t73 : Fin (k1_t73_loop v1310 v1312 k1_t71).trips), ∀ a, (k1_off982 v1310 v1312 k1_t71 k1_t73) a + S1x16.size a ≤ S72x256.size a) ∧
  (∀ (k1_t71 : Fin (k1_t71_loop v1310 v1312).trips) (k1_t73 : Fin (k1_t73_loop v1310 v1312 k1_t71).trips), ∀ a, (k1_off983 v1310 v1312 k1_t71 k1_t73) a + S1x16.size a ≤ S72x256.size a) ∧
  (∀ (k1_t71 : Fin (k1_t71_loop v1310 v1312).trips) (k1_t73 : Fin (k1_t73_loop v1310 v1312 k1_t71).trips), ∀ a, (k1_off984 v1310 v1312 k1_t71 k1_t73) a + S1x16.size a ≤ S72x256.size a) ∧
  (∀ (k1_t71 : Fin (k1_t71_loop v1310 v1312).trips) (k1_t73 : Fin (k1_t73_loop v1310 v1312 k1_t71).trips), ∀ a, (k1_off985 v1310 v1312 k1_t71 k1_t73) a + S1x16.size a ≤ S72x256.size a) ∧
  (∀ (k1_t71 : Fin (k1_t71_loop v1310 v1312).trips) (k1_t73 : Fin (k1_t73_loop v1310 v1312 k1_t71).trips), ∀ a, (k1_off986 v1310 v1312 k1_t71 k1_t73) a + S1x16.size a ≤ S72x256.size a) ∧
  (∀ (k1_t71 : Fin (k1_t71_loop v1310 v1312).trips) (k1_t73 : Fin (k1_t73_loop v1310 v1312 k1_t71).trips), ∀ a, (k1_off987 v1310 v1312 k1_t71 k1_t73) a + S1x16.size a ≤ S72x256.size a) ∧
  (∀ (k1_t71 : Fin (k1_t71_loop v1310 v1312).trips) (k1_t73 : Fin (k1_t73_loop v1310 v1312 k1_t71).trips), ∀ a, (k1_off988 v1310 v1312 k1_t71 k1_t73) a + S1x16.size a ≤ S72x256.size a) ∧
  (∀ (k1_t71 : Fin (k1_t71_loop v1310 v1312).trips) (k1_t73 : Fin (k1_t73_loop v1310 v1312 k1_t71).trips), ∀ a, (k1_off989 v1310 v1312 k1_t71 k1_t73) a + S1x16.size a ≤ S72x256.size a)
def k1_chk8_1 (i : grid1.Coords) (v1310 : BitVec 32) (v1312 : BitVec 32) : Prop :=
  (∀ (k1_t71 : Fin (k1_t71_loop v1310 v1312).trips) (k1_t73 : Fin (k1_t73_loop v1310 v1312 k1_t71).trips), ∀ a, (k1_off990 v1310 v1312 k1_t71 k1_t73) a + S1x16.size a ≤ S72x256.size a) ∧
  (∀ (k1_t71 : Fin (k1_t71_loop v1310 v1312).trips) (k1_t73 : Fin (k1_t73_loop v1310 v1312 k1_t71).trips), ∀ a, (k1_off991 v1310 v1312 k1_t71 k1_t73) a + S1x16.size a ≤ S72x256.size a) ∧
  (∀ (k1_t71 : Fin (k1_t71_loop v1310 v1312).trips) (k1_t73 : Fin (k1_t73_loop v1310 v1312 k1_t71).trips), ∀ a, (k1_off992 v1310 v1312 k1_t71 k1_t73) a + S1x16.size a ≤ S72x256.size a) ∧
  (∀ (k1_t71 : Fin (k1_t71_loop v1310 v1312).trips) (k1_t73 : Fin (k1_t73_loop v1310 v1312 k1_t71).trips), ∀ a, (k1_off993 v1310 v1312 k1_t71 k1_t73) a + S1x16.size a ≤ S72x256.size a) ∧
  (∀ (k1_t71 : Fin (k1_t71_loop v1310 v1312).trips) (k1_t73 : Fin (k1_t73_loop v1310 v1312 k1_t71).trips), ∀ a, (k1_off994 v1310 v1312 k1_t71 k1_t73) a + S1x16.size a ≤ S72x256.size a) ∧
  (∀ (k1_t71 : Fin (k1_t71_loop v1310 v1312).trips) (k1_t73 : Fin (k1_t73_loop v1310 v1312 k1_t71).trips), ∀ a, (k1_off995 v1310 v1312 k1_t71 k1_t73) a + S1x16.size a ≤ S72x256.size a) ∧
  (∀ k1_t71 : Fin (k1_t71_loop v1310 v1312).trips, ∀ (k1_h67 : k1_cond67 v1310 v1312 k1_t71 = 1#1), ∀ a, (k1_off996 i v1310 v1312 k1_t71) a + S72x256.size a ≤ S100000x512.size a) ∧
  (∀ k1_t71 : Fin (k1_t71_loop v1310 v1312).trips, ∀ (k1_h67 : k1_cond67 v1310 v1312 k1_t71 = 1#1), ∀ (k1_h68 : k1_cond68 v1310 v1312 k1_t71 = 1#1), ∀ a, (k1_off997 i v1310 v1312 k1_t71) a + S72x256.size a ≤ S100000x512.size a) ∧
  (∀ k1_t71 : Fin (k1_t71_loop v1310 v1312).trips, (k1_t74_loop v1310 v1312 k1_t71).OK) ∧
  (∀ (k1_t71 : Fin (k1_t71_loop v1310 v1312).trips) (k1_t74 : Fin (k1_t74_loop v1310 v1312 k1_t71).trips), ∀ a, (k1_off998 v1310 v1312 k1_t71 k1_t74) a + S1x16.size a ≤ S72x256.size a) ∧
  (∀ (k1_t71 : Fin (k1_t71_loop v1310 v1312).trips) (k1_t74 : Fin (k1_t74_loop v1310 v1312 k1_t71).trips), ∀ a, (k1_off999 v1310 v1312 k1_t71 k1_t74) a + S1x16.size a ≤ S72x256.size a) ∧
  (∀ (k1_t71 : Fin (k1_t71_loop v1310 v1312).trips) (k1_t74 : Fin (k1_t74_loop v1310 v1312 k1_t71).trips), ∀ a, (k1_off1000 v1310 v1312 k1_t71 k1_t74) a + S1x16.size a ≤ S72x256.size a) ∧
  (∀ (k1_t71 : Fin (k1_t71_loop v1310 v1312).trips) (k1_t74 : Fin (k1_t74_loop v1310 v1312 k1_t71).trips), ∀ a, (k1_off1001 v1310 v1312 k1_t71 k1_t74) a + S1x16.size a ≤ S72x256.size a) ∧
  (∀ (k1_t71 : Fin (k1_t71_loop v1310 v1312).trips) (k1_t74 : Fin (k1_t74_loop v1310 v1312 k1_t71).trips), ∀ a, (k1_off1002 v1310 v1312 k1_t71 k1_t74) a + S1x16.size a ≤ S72x256.size a) ∧
  (∀ (k1_t71 : Fin (k1_t71_loop v1310 v1312).trips) (k1_t74 : Fin (k1_t74_loop v1310 v1312 k1_t71).trips), ∀ a, (k1_off1003 v1310 v1312 k1_t71 k1_t74) a + S1x16.size a ≤ S72x256.size a) ∧
  (∀ (k1_t71 : Fin (k1_t71_loop v1310 v1312).trips) (k1_t74 : Fin (k1_t74_loop v1310 v1312 k1_t71).trips), ∀ a, (k1_off1004 v1310 v1312 k1_t71 k1_t74) a + S1x16.size a ≤ S72x256.size a) ∧
  (∀ (k1_t71 : Fin (k1_t71_loop v1310 v1312).trips) (k1_t74 : Fin (k1_t74_loop v1310 v1312 k1_t71).trips), ∀ a, (k1_off1005 v1310 v1312 k1_t71 k1_t74) a + S1x16.size a ≤ S72x256.size a) ∧
  (∀ (k1_t71 : Fin (k1_t71_loop v1310 v1312).trips) (k1_t74 : Fin (k1_t74_loop v1310 v1312 k1_t71).trips), ∀ a, (k1_off1006 v1310 v1312 k1_t71 k1_t74) a + S1x16.size a ≤ S72x256.size a) ∧
  (∀ (k1_t71 : Fin (k1_t71_loop v1310 v1312).trips) (k1_t74 : Fin (k1_t74_loop v1310 v1312 k1_t71).trips), ∀ a, (k1_off1007 v1310 v1312 k1_t71 k1_t74) a + S1x16.size a ≤ S72x256.size a) ∧
  (∀ (k1_t71 : Fin (k1_t71_loop v1310 v1312).trips) (k1_t74 : Fin (k1_t74_loop v1310 v1312 k1_t71).trips), ∀ a, (k1_off1008 v1310 v1312 k1_t71 k1_t74) a + S1x16.size a ≤ S72x256.size a) ∧
  (∀ (k1_t71 : Fin (k1_t71_loop v1310 v1312).trips) (k1_t74 : Fin (k1_t74_loop v1310 v1312 k1_t71).trips), ∀ a, (k1_off1009 v1310 v1312 k1_t71 k1_t74) a + S1x16.size a ≤ S72x256.size a) ∧
  (∀ (k1_t71 : Fin (k1_t71_loop v1310 v1312).trips) (k1_t74 : Fin (k1_t74_loop v1310 v1312 k1_t71).trips), ∀ a, (k1_off1010 v1310 v1312 k1_t71 k1_t74) a + S1x16.size a ≤ S72x256.size a) ∧
  (∀ (k1_t71 : Fin (k1_t71_loop v1310 v1312).trips) (k1_t74 : Fin (k1_t74_loop v1310 v1312 k1_t71).trips), ∀ a, (k1_off1011 v1310 v1312 k1_t71 k1_t74) a + S1x16.size a ≤ S72x256.size a) ∧
  (∀ (k1_t71 : Fin (k1_t71_loop v1310 v1312).trips) (k1_t74 : Fin (k1_t74_loop v1310 v1312 k1_t71).trips), ∀ a, (k1_off1012 v1310 v1312 k1_t71 k1_t74) a + S1x16.size a ≤ S72x256.size a) ∧
  (∀ (k1_t71 : Fin (k1_t71_loop v1310 v1312).trips) (k1_t74 : Fin (k1_t74_loop v1310 v1312 k1_t71).trips), ∀ a, (k1_off1013 v1310 v1312 k1_t71 k1_t74) a + S1x16.size a ≤ S72x256.size a) ∧
  (∀ k1_t71 : Fin (k1_t71_loop v1310 v1312).trips, (k1_t75_loop v1310 v1312 k1_t71).OK) ∧
  (∀ (k1_t71 : Fin (k1_t71_loop v1310 v1312).trips) (k1_t75 : Fin (k1_t75_loop v1310 v1312 k1_t71).trips), ∀ a, (k1_off1014 v1310 v1312 k1_t71 k1_t75) a + S1x16.size a ≤ S72x256.size a) ∧
  (∀ (k1_t71 : Fin (k1_t71_loop v1310 v1312).trips) (k1_t75 : Fin (k1_t75_loop v1310 v1312 k1_t71).trips), ∀ a, (k1_off1015 v1310 v1312 k1_t71 k1_t75) a + S1x16.size a ≤ S72x256.size a) ∧
  (∀ (k1_t71 : Fin (k1_t71_loop v1310 v1312).trips) (k1_t75 : Fin (k1_t75_loop v1310 v1312 k1_t71).trips), ∀ a, (k1_off1016 v1310 v1312 k1_t71 k1_t75) a + S1x16.size a ≤ S72x256.size a) ∧
  (∀ (k1_t71 : Fin (k1_t71_loop v1310 v1312).trips) (k1_t75 : Fin (k1_t75_loop v1310 v1312 k1_t71).trips), ∀ a, (k1_off1017 v1310 v1312 k1_t71 k1_t75) a + S1x16.size a ≤ S72x256.size a) ∧
  (∀ (k1_t71 : Fin (k1_t71_loop v1310 v1312).trips) (k1_t75 : Fin (k1_t75_loop v1310 v1312 k1_t71).trips), ∀ a, (k1_off1018 v1310 v1312 k1_t71 k1_t75) a + S1x16.size a ≤ S72x256.size a) ∧
  (∀ (k1_t71 : Fin (k1_t71_loop v1310 v1312).trips) (k1_t75 : Fin (k1_t75_loop v1310 v1312 k1_t71).trips), ∀ a, (k1_off1019 v1310 v1312 k1_t71 k1_t75) a + S1x16.size a ≤ S72x256.size a)
def k1_chk8_2 (i : grid1.Coords) (v1310 : BitVec 32) (v1312 : BitVec 32) : Prop :=
  (∀ (k1_t71 : Fin (k1_t71_loop v1310 v1312).trips) (k1_t75 : Fin (k1_t75_loop v1310 v1312 k1_t71).trips), ∀ a, (k1_off1020 v1310 v1312 k1_t71 k1_t75) a + S1x16.size a ≤ S72x256.size a) ∧
  (∀ (k1_t71 : Fin (k1_t71_loop v1310 v1312).trips) (k1_t75 : Fin (k1_t75_loop v1310 v1312 k1_t71).trips), ∀ a, (k1_off1021 v1310 v1312 k1_t71 k1_t75) a + S1x16.size a ≤ S72x256.size a) ∧
  (∀ (k1_t71 : Fin (k1_t71_loop v1310 v1312).trips) (k1_t75 : Fin (k1_t75_loop v1310 v1312 k1_t71).trips), ∀ a, (k1_off1022 v1310 v1312 k1_t71 k1_t75) a + S1x16.size a ≤ S72x256.size a) ∧
  (∀ (k1_t71 : Fin (k1_t71_loop v1310 v1312).trips) (k1_t75 : Fin (k1_t75_loop v1310 v1312 k1_t71).trips), ∀ a, (k1_off1023 v1310 v1312 k1_t71 k1_t75) a + S1x16.size a ≤ S72x256.size a) ∧
  (∀ (k1_t71 : Fin (k1_t71_loop v1310 v1312).trips) (k1_t75 : Fin (k1_t75_loop v1310 v1312 k1_t71).trips), ∀ a, (k1_off1024 v1310 v1312 k1_t71 k1_t75) a + S1x16.size a ≤ S72x256.size a) ∧
  (∀ (k1_t71 : Fin (k1_t71_loop v1310 v1312).trips) (k1_t75 : Fin (k1_t75_loop v1310 v1312 k1_t71).trips), ∀ a, (k1_off1025 v1310 v1312 k1_t71 k1_t75) a + S1x16.size a ≤ S72x256.size a) ∧
  (∀ (k1_t71 : Fin (k1_t71_loop v1310 v1312).trips) (k1_t75 : Fin (k1_t75_loop v1310 v1312 k1_t71).trips), ∀ a, (k1_off1026 v1310 v1312 k1_t71 k1_t75) a + S1x16.size a ≤ S72x256.size a) ∧
  (∀ (k1_t71 : Fin (k1_t71_loop v1310 v1312).trips) (k1_t75 : Fin (k1_t75_loop v1310 v1312 k1_t71).trips), ∀ a, (k1_off1027 v1310 v1312 k1_t71 k1_t75) a + S1x16.size a ≤ S72x256.size a) ∧
  (∀ (k1_t71 : Fin (k1_t71_loop v1310 v1312).trips) (k1_t75 : Fin (k1_t75_loop v1310 v1312 k1_t71).trips), ∀ a, (k1_off1028 v1310 v1312 k1_t71 k1_t75) a + S1x16.size a ≤ S72x256.size a) ∧
  (∀ (k1_t71 : Fin (k1_t71_loop v1310 v1312).trips) (k1_t75 : Fin (k1_t75_loop v1310 v1312 k1_t71).trips), ∀ a, (k1_off1029 v1310 v1312 k1_t71 k1_t75) a + S1x16.size a ≤ S72x256.size a) ∧
  ((k1_t76_loop v1310 v1312).OK) ∧
  (∀ k1_t76 : Fin (k1_t76_loop v1310 v1312).trips, ∀ (k1_h69 : k1_cond69 v1310 v1312 k1_t76 = 1#1), ∀ a, (k1_off1030 i v1310 v1312 k1_t76) a + S72x256.size a ≤ S100000x512.size a) ∧
  (∀ k1_t76 : Fin (k1_t76_loop v1310 v1312).trips, ∀ (k1_h69 : k1_cond69 v1310 v1312 k1_t76 = 1#1), ∀ (k1_h70 : k1_cond70 v1310 v1312 k1_t76 = 1#1), ∀ a, (k1_off1031 i v1310 v1312 k1_t76) a + S72x256.size a ≤ S100000x512.size a) ∧
  (∀ k1_t76 : Fin (k1_t76_loop v1310 v1312).trips, (k1_t77_loop v1310 v1312 k1_t76).OK) ∧
  (∀ (k1_t76 : Fin (k1_t76_loop v1310 v1312).trips) (k1_t77 : Fin (k1_t77_loop v1310 v1312 k1_t76).trips), ∀ a, (k1_off1032 v1310 v1312 k1_t76 k1_t77) a + S1x16.size a ≤ S72x256.size a) ∧
  (∀ (k1_t76 : Fin (k1_t76_loop v1310 v1312).trips) (k1_t77 : Fin (k1_t77_loop v1310 v1312 k1_t76).trips), ∀ a, (k1_off1033 v1310 v1312 k1_t76 k1_t77) a + S1x16.size a ≤ S72x256.size a) ∧
  (∀ (k1_t76 : Fin (k1_t76_loop v1310 v1312).trips) (k1_t77 : Fin (k1_t77_loop v1310 v1312 k1_t76).trips), ∀ a, (k1_off1034 v1310 v1312 k1_t76 k1_t77) a + S1x16.size a ≤ S72x256.size a) ∧
  (∀ (k1_t76 : Fin (k1_t76_loop v1310 v1312).trips) (k1_t77 : Fin (k1_t77_loop v1310 v1312 k1_t76).trips), ∀ a, (k1_off1035 v1310 v1312 k1_t76 k1_t77) a + S1x16.size a ≤ S72x256.size a) ∧
  (∀ (k1_t76 : Fin (k1_t76_loop v1310 v1312).trips) (k1_t77 : Fin (k1_t77_loop v1310 v1312 k1_t76).trips), ∀ a, (k1_off1036 v1310 v1312 k1_t76 k1_t77) a + S1x16.size a ≤ S72x256.size a) ∧
  (∀ (k1_t76 : Fin (k1_t76_loop v1310 v1312).trips) (k1_t77 : Fin (k1_t77_loop v1310 v1312 k1_t76).trips), ∀ a, (k1_off1037 v1310 v1312 k1_t76 k1_t77) a + S1x16.size a ≤ S72x256.size a) ∧
  (∀ (k1_t76 : Fin (k1_t76_loop v1310 v1312).trips) (k1_t77 : Fin (k1_t77_loop v1310 v1312 k1_t76).trips), ∀ a, (k1_off1038 v1310 v1312 k1_t76 k1_t77) a + S1x16.size a ≤ S72x256.size a) ∧
  (∀ (k1_t76 : Fin (k1_t76_loop v1310 v1312).trips) (k1_t77 : Fin (k1_t77_loop v1310 v1312 k1_t76).trips), ∀ a, (k1_off1039 v1310 v1312 k1_t76 k1_t77) a + S1x16.size a ≤ S72x256.size a) ∧
  (∀ (k1_t76 : Fin (k1_t76_loop v1310 v1312).trips) (k1_t77 : Fin (k1_t77_loop v1310 v1312 k1_t76).trips), ∀ a, (k1_off1040 v1310 v1312 k1_t76 k1_t77) a + S1x16.size a ≤ S72x256.size a) ∧
  (∀ (k1_t76 : Fin (k1_t76_loop v1310 v1312).trips) (k1_t77 : Fin (k1_t77_loop v1310 v1312 k1_t76).trips), ∀ a, (k1_off1041 v1310 v1312 k1_t76 k1_t77) a + S1x16.size a ≤ S72x256.size a) ∧
  (∀ (k1_t76 : Fin (k1_t76_loop v1310 v1312).trips) (k1_t77 : Fin (k1_t77_loop v1310 v1312 k1_t76).trips), ∀ a, (k1_off1042 v1310 v1312 k1_t76 k1_t77) a + S1x16.size a ≤ S72x256.size a) ∧
  (∀ (k1_t76 : Fin (k1_t76_loop v1310 v1312).trips) (k1_t77 : Fin (k1_t77_loop v1310 v1312 k1_t76).trips), ∀ a, (k1_off1043 v1310 v1312 k1_t76 k1_t77) a + S1x16.size a ≤ S72x256.size a) ∧
  (∀ (k1_t76 : Fin (k1_t76_loop v1310 v1312).trips) (k1_t77 : Fin (k1_t77_loop v1310 v1312 k1_t76).trips), ∀ a, (k1_off1044 v1310 v1312 k1_t76 k1_t77) a + S1x16.size a ≤ S72x256.size a) ∧
  (∀ (k1_t76 : Fin (k1_t76_loop v1310 v1312).trips) (k1_t77 : Fin (k1_t77_loop v1310 v1312 k1_t76).trips), ∀ a, (k1_off1045 v1310 v1312 k1_t76 k1_t77) a + S1x16.size a ≤ S72x256.size a) ∧
  (∀ (k1_t76 : Fin (k1_t76_loop v1310 v1312).trips) (k1_t77 : Fin (k1_t77_loop v1310 v1312 k1_t76).trips), ∀ a, (k1_off1046 v1310 v1312 k1_t76 k1_t77) a + S1x16.size a ≤ S72x256.size a) ∧
  (∀ (k1_t76 : Fin (k1_t76_loop v1310 v1312).trips) (k1_t77 : Fin (k1_t77_loop v1310 v1312 k1_t76).trips), ∀ a, (k1_off1047 v1310 v1312 k1_t76 k1_t77) a + S1x16.size a ≤ S72x256.size a) ∧
  (∀ k1_t76 : Fin (k1_t76_loop v1310 v1312).trips, (k1_t78_loop v1310 v1312 k1_t76).OK) ∧
  (∀ (k1_t76 : Fin (k1_t76_loop v1310 v1312).trips) (k1_t78 : Fin (k1_t78_loop v1310 v1312 k1_t76).trips), ∀ a, (k1_off1048 v1310 v1312 k1_t76 k1_t78) a + S1x16.size a ≤ S72x256.size a)
def k1_chk8_3 (i : grid1.Coords) (v1310 : BitVec 32) (v1312 : BitVec 32) : Prop :=
  (∀ (k1_t76 : Fin (k1_t76_loop v1310 v1312).trips) (k1_t78 : Fin (k1_t78_loop v1310 v1312 k1_t76).trips), ∀ a, (k1_off1049 v1310 v1312 k1_t76 k1_t78) a + S1x16.size a ≤ S72x256.size a) ∧
  (∀ (k1_t76 : Fin (k1_t76_loop v1310 v1312).trips) (k1_t78 : Fin (k1_t78_loop v1310 v1312 k1_t76).trips), ∀ a, (k1_off1050 v1310 v1312 k1_t76 k1_t78) a + S1x16.size a ≤ S72x256.size a) ∧
  (∀ (k1_t76 : Fin (k1_t76_loop v1310 v1312).trips) (k1_t78 : Fin (k1_t78_loop v1310 v1312 k1_t76).trips), ∀ a, (k1_off1051 v1310 v1312 k1_t76 k1_t78) a + S1x16.size a ≤ S72x256.size a) ∧
  (∀ (k1_t76 : Fin (k1_t76_loop v1310 v1312).trips) (k1_t78 : Fin (k1_t78_loop v1310 v1312 k1_t76).trips), ∀ a, (k1_off1052 v1310 v1312 k1_t76 k1_t78) a + S1x16.size a ≤ S72x256.size a) ∧
  (∀ (k1_t76 : Fin (k1_t76_loop v1310 v1312).trips) (k1_t78 : Fin (k1_t78_loop v1310 v1312 k1_t76).trips), ∀ a, (k1_off1053 v1310 v1312 k1_t76 k1_t78) a + S1x16.size a ≤ S72x256.size a) ∧
  (∀ (k1_t76 : Fin (k1_t76_loop v1310 v1312).trips) (k1_t78 : Fin (k1_t78_loop v1310 v1312 k1_t76).trips), ∀ a, (k1_off1054 v1310 v1312 k1_t76 k1_t78) a + S1x16.size a ≤ S72x256.size a) ∧
  (∀ (k1_t76 : Fin (k1_t76_loop v1310 v1312).trips) (k1_t78 : Fin (k1_t78_loop v1310 v1312 k1_t76).trips), ∀ a, (k1_off1055 v1310 v1312 k1_t76 k1_t78) a + S1x16.size a ≤ S72x256.size a) ∧
  (∀ (k1_t76 : Fin (k1_t76_loop v1310 v1312).trips) (k1_t78 : Fin (k1_t78_loop v1310 v1312 k1_t76).trips), ∀ a, (k1_off1056 v1310 v1312 k1_t76 k1_t78) a + S1x16.size a ≤ S72x256.size a) ∧
  (∀ (k1_t76 : Fin (k1_t76_loop v1310 v1312).trips) (k1_t78 : Fin (k1_t78_loop v1310 v1312 k1_t76).trips), ∀ a, (k1_off1057 v1310 v1312 k1_t76 k1_t78) a + S1x16.size a ≤ S72x256.size a) ∧
  (∀ (k1_t76 : Fin (k1_t76_loop v1310 v1312).trips) (k1_t78 : Fin (k1_t78_loop v1310 v1312 k1_t76).trips), ∀ a, (k1_off1058 v1310 v1312 k1_t76 k1_t78) a + S1x16.size a ≤ S72x256.size a) ∧
  (∀ (k1_t76 : Fin (k1_t76_loop v1310 v1312).trips) (k1_t78 : Fin (k1_t78_loop v1310 v1312 k1_t76).trips), ∀ a, (k1_off1059 v1310 v1312 k1_t76 k1_t78) a + S1x16.size a ≤ S72x256.size a) ∧
  (∀ (k1_t76 : Fin (k1_t76_loop v1310 v1312).trips) (k1_t78 : Fin (k1_t78_loop v1310 v1312 k1_t76).trips), ∀ a, (k1_off1060 v1310 v1312 k1_t76 k1_t78) a + S1x16.size a ≤ S72x256.size a) ∧
  (∀ (k1_t76 : Fin (k1_t76_loop v1310 v1312).trips) (k1_t78 : Fin (k1_t78_loop v1310 v1312 k1_t76).trips), ∀ a, (k1_off1061 v1310 v1312 k1_t76 k1_t78) a + S1x16.size a ≤ S72x256.size a) ∧
  (∀ (k1_t76 : Fin (k1_t76_loop v1310 v1312).trips) (k1_t78 : Fin (k1_t78_loop v1310 v1312 k1_t76).trips), ∀ a, (k1_off1062 v1310 v1312 k1_t76 k1_t78) a + S1x16.size a ≤ S72x256.size a) ∧
  (∀ (k1_t76 : Fin (k1_t76_loop v1310 v1312).trips) (k1_t78 : Fin (k1_t78_loop v1310 v1312 k1_t76).trips), ∀ a, (k1_off1063 v1310 v1312 k1_t76 k1_t78) a + S1x16.size a ≤ S72x256.size a) ∧
  (∀ k1_t76 : Fin (k1_t76_loop v1310 v1312).trips, ∀ (k1_h71 : k1_cond71 v1310 v1312 k1_t76 = 1#1), ∀ a, (k1_off1064 i v1310 v1312 k1_t76) a + S72x256.size a ≤ S100000x512.size a) ∧
  (∀ k1_t76 : Fin (k1_t76_loop v1310 v1312).trips, ∀ (k1_h71 : k1_cond71 v1310 v1312 k1_t76 = 1#1), ∀ (k1_h72 : k1_cond72 v1310 v1312 k1_t76 = 1#1), ∀ a, (k1_off1065 i v1310 v1312 k1_t76) a + S72x256.size a ≤ S100000x512.size a) ∧
  (∀ k1_t76 : Fin (k1_t76_loop v1310 v1312).trips, (k1_t79_loop v1310 v1312 k1_t76).OK) ∧
  (∀ (k1_t76 : Fin (k1_t76_loop v1310 v1312).trips) (k1_t79 : Fin (k1_t79_loop v1310 v1312 k1_t76).trips), ∀ a, (k1_off1066 v1310 v1312 k1_t76 k1_t79) a + S1x16.size a ≤ S72x256.size a) ∧
  (∀ (k1_t76 : Fin (k1_t76_loop v1310 v1312).trips) (k1_t79 : Fin (k1_t79_loop v1310 v1312 k1_t76).trips), ∀ a, (k1_off1067 v1310 v1312 k1_t76 k1_t79) a + S1x16.size a ≤ S72x256.size a) ∧
  (∀ (k1_t76 : Fin (k1_t76_loop v1310 v1312).trips) (k1_t79 : Fin (k1_t79_loop v1310 v1312 k1_t76).trips), ∀ a, (k1_off1068 v1310 v1312 k1_t76 k1_t79) a + S1x16.size a ≤ S72x256.size a) ∧
  (∀ (k1_t76 : Fin (k1_t76_loop v1310 v1312).trips) (k1_t79 : Fin (k1_t79_loop v1310 v1312 k1_t76).trips), ∀ a, (k1_off1069 v1310 v1312 k1_t76 k1_t79) a + S1x16.size a ≤ S72x256.size a) ∧
  (∀ (k1_t76 : Fin (k1_t76_loop v1310 v1312).trips) (k1_t79 : Fin (k1_t79_loop v1310 v1312 k1_t76).trips), ∀ a, (k1_off1070 v1310 v1312 k1_t76 k1_t79) a + S1x16.size a ≤ S72x256.size a) ∧
  (∀ (k1_t76 : Fin (k1_t76_loop v1310 v1312).trips) (k1_t79 : Fin (k1_t79_loop v1310 v1312 k1_t76).trips), ∀ a, (k1_off1071 v1310 v1312 k1_t76 k1_t79) a + S1x16.size a ≤ S72x256.size a) ∧
  (∀ (k1_t76 : Fin (k1_t76_loop v1310 v1312).trips) (k1_t79 : Fin (k1_t79_loop v1310 v1312 k1_t76).trips), ∀ a, (k1_off1072 v1310 v1312 k1_t76 k1_t79) a + S1x16.size a ≤ S72x256.size a) ∧
  (∀ (k1_t76 : Fin (k1_t76_loop v1310 v1312).trips) (k1_t79 : Fin (k1_t79_loop v1310 v1312 k1_t76).trips), ∀ a, (k1_off1073 v1310 v1312 k1_t76 k1_t79) a + S1x16.size a ≤ S72x256.size a) ∧
  (∀ (k1_t76 : Fin (k1_t76_loop v1310 v1312).trips) (k1_t79 : Fin (k1_t79_loop v1310 v1312 k1_t76).trips), ∀ a, (k1_off1074 v1310 v1312 k1_t76 k1_t79) a + S1x16.size a ≤ S72x256.size a) ∧
  (∀ (k1_t76 : Fin (k1_t76_loop v1310 v1312).trips) (k1_t79 : Fin (k1_t79_loop v1310 v1312 k1_t76).trips), ∀ a, (k1_off1075 v1310 v1312 k1_t76 k1_t79) a + S1x16.size a ≤ S72x256.size a) ∧
  (∀ (k1_t76 : Fin (k1_t76_loop v1310 v1312).trips) (k1_t79 : Fin (k1_t79_loop v1310 v1312 k1_t76).trips), ∀ a, (k1_off1076 v1310 v1312 k1_t76 k1_t79) a + S1x16.size a ≤ S72x256.size a) ∧
  (∀ (k1_t76 : Fin (k1_t76_loop v1310 v1312).trips) (k1_t79 : Fin (k1_t79_loop v1310 v1312 k1_t76).trips), ∀ a, (k1_off1077 v1310 v1312 k1_t76 k1_t79) a + S1x16.size a ≤ S72x256.size a) ∧
  (∀ (k1_t76 : Fin (k1_t76_loop v1310 v1312).trips) (k1_t79 : Fin (k1_t79_loop v1310 v1312 k1_t76).trips), ∀ a, (k1_off1078 v1310 v1312 k1_t76 k1_t79) a + S1x16.size a ≤ S72x256.size a) ∧
  (∀ (k1_t76 : Fin (k1_t76_loop v1310 v1312).trips) (k1_t79 : Fin (k1_t79_loop v1310 v1312 k1_t76).trips), ∀ a, (k1_off1079 v1310 v1312 k1_t76 k1_t79) a + S1x16.size a ≤ S72x256.size a)
def k1_chk8_4 (i : grid1.Coords) (v1310 : BitVec 32) (v1312 : BitVec 32) : Prop :=
  (∀ (k1_t76 : Fin (k1_t76_loop v1310 v1312).trips) (k1_t79 : Fin (k1_t79_loop v1310 v1312 k1_t76).trips), ∀ a, (k1_off1080 v1310 v1312 k1_t76 k1_t79) a + S1x16.size a ≤ S72x256.size a) ∧
  (∀ (k1_t76 : Fin (k1_t76_loop v1310 v1312).trips) (k1_t79 : Fin (k1_t79_loop v1310 v1312 k1_t76).trips), ∀ a, (k1_off1081 v1310 v1312 k1_t76 k1_t79) a + S1x16.size a ≤ S72x256.size a) ∧
  (∀ k1_t76 : Fin (k1_t76_loop v1310 v1312).trips, (k1_t80_loop v1310 v1312 k1_t76).OK) ∧
  (∀ (k1_t76 : Fin (k1_t76_loop v1310 v1312).trips) (k1_t80 : Fin (k1_t80_loop v1310 v1312 k1_t76).trips), ∀ a, (k1_off1082 v1310 v1312 k1_t76 k1_t80) a + S1x16.size a ≤ S72x256.size a) ∧
  (∀ (k1_t76 : Fin (k1_t76_loop v1310 v1312).trips) (k1_t80 : Fin (k1_t80_loop v1310 v1312 k1_t76).trips), ∀ a, (k1_off1083 v1310 v1312 k1_t76 k1_t80) a + S1x16.size a ≤ S72x256.size a) ∧
  (∀ (k1_t76 : Fin (k1_t76_loop v1310 v1312).trips) (k1_t80 : Fin (k1_t80_loop v1310 v1312 k1_t76).trips), ∀ a, (k1_off1084 v1310 v1312 k1_t76 k1_t80) a + S1x16.size a ≤ S72x256.size a) ∧
  (∀ (k1_t76 : Fin (k1_t76_loop v1310 v1312).trips) (k1_t80 : Fin (k1_t80_loop v1310 v1312 k1_t76).trips), ∀ a, (k1_off1085 v1310 v1312 k1_t76 k1_t80) a + S1x16.size a ≤ S72x256.size a) ∧
  (∀ (k1_t76 : Fin (k1_t76_loop v1310 v1312).trips) (k1_t80 : Fin (k1_t80_loop v1310 v1312 k1_t76).trips), ∀ a, (k1_off1086 v1310 v1312 k1_t76 k1_t80) a + S1x16.size a ≤ S72x256.size a) ∧
  (∀ (k1_t76 : Fin (k1_t76_loop v1310 v1312).trips) (k1_t80 : Fin (k1_t80_loop v1310 v1312 k1_t76).trips), ∀ a, (k1_off1087 v1310 v1312 k1_t76 k1_t80) a + S1x16.size a ≤ S72x256.size a) ∧
  (∀ (k1_t76 : Fin (k1_t76_loop v1310 v1312).trips) (k1_t80 : Fin (k1_t80_loop v1310 v1312 k1_t76).trips), ∀ a, (k1_off1088 v1310 v1312 k1_t76 k1_t80) a + S1x16.size a ≤ S72x256.size a) ∧
  (∀ (k1_t76 : Fin (k1_t76_loop v1310 v1312).trips) (k1_t80 : Fin (k1_t80_loop v1310 v1312 k1_t76).trips), ∀ a, (k1_off1089 v1310 v1312 k1_t76 k1_t80) a + S1x16.size a ≤ S72x256.size a) ∧
  (∀ (k1_t76 : Fin (k1_t76_loop v1310 v1312).trips) (k1_t80 : Fin (k1_t80_loop v1310 v1312 k1_t76).trips), ∀ a, (k1_off1090 v1310 v1312 k1_t76 k1_t80) a + S1x16.size a ≤ S72x256.size a) ∧
  (∀ (k1_t76 : Fin (k1_t76_loop v1310 v1312).trips) (k1_t80 : Fin (k1_t80_loop v1310 v1312 k1_t76).trips), ∀ a, (k1_off1091 v1310 v1312 k1_t76 k1_t80) a + S1x16.size a ≤ S72x256.size a) ∧
  (∀ (k1_t76 : Fin (k1_t76_loop v1310 v1312).trips) (k1_t80 : Fin (k1_t80_loop v1310 v1312 k1_t76).trips), ∀ a, (k1_off1092 v1310 v1312 k1_t76 k1_t80) a + S1x16.size a ≤ S72x256.size a) ∧
  (∀ (k1_t76 : Fin (k1_t76_loop v1310 v1312).trips) (k1_t80 : Fin (k1_t80_loop v1310 v1312 k1_t76).trips), ∀ a, (k1_off1093 v1310 v1312 k1_t76 k1_t80) a + S1x16.size a ≤ S72x256.size a) ∧
  (∀ (k1_t76 : Fin (k1_t76_loop v1310 v1312).trips) (k1_t80 : Fin (k1_t80_loop v1310 v1312 k1_t76).trips), ∀ a, (k1_off1094 v1310 v1312 k1_t76 k1_t80) a + S1x16.size a ≤ S72x256.size a) ∧
  (∀ (k1_t76 : Fin (k1_t76_loop v1310 v1312).trips) (k1_t80 : Fin (k1_t80_loop v1310 v1312 k1_t76).trips), ∀ a, (k1_off1095 v1310 v1312 k1_t76 k1_t80) a + S1x16.size a ≤ S72x256.size a) ∧
  (∀ (k1_t76 : Fin (k1_t76_loop v1310 v1312).trips) (k1_t80 : Fin (k1_t80_loop v1310 v1312 k1_t76).trips), ∀ a, (k1_off1096 v1310 v1312 k1_t76 k1_t80) a + S1x16.size a ≤ S72x256.size a) ∧
  (∀ (k1_t76 : Fin (k1_t76_loop v1310 v1312).trips) (k1_t80 : Fin (k1_t80_loop v1310 v1312 k1_t76).trips), ∀ a, (k1_off1097 v1310 v1312 k1_t76 k1_t80) a + S1x16.size a ≤ S72x256.size a)
def k1_chk8 (i : grid1.Coords) (v1310 : BitVec 32) (v1312 : BitVec 32) : Prop :=
  k1_chk8_0 i v1310 v1312 ∧
  k1_chk8_1 i v1310 v1312 ∧
  k1_chk8_2 i v1310 v1312 ∧
  k1_chk8_3 i v1310 v1312 ∧
  k1_chk8_4 i v1310 v1312
theorem k1_off961_inb : ∀ (i : grid1.Coords) (v1310 : BitVec 32) (v1312 : BitVec 32) (k1_hw8 : k1_chk8 i v1310 v1312), ∀ (k1_h64 : k1_cond64 v1310 v1312 = 1#1), ∀ a, (k1_off961 i v1310) a + S72x256.size a ≤ S100000x512.size a := fun i v1310 v1312 k1_hw8 k1_h64 => k1_hw8.1.1 k1_h64
theorem k1_t71_ok : ∀ (i : grid1.Coords) (v1310 : BitVec 32) (v1312 : BitVec 32) (k1_hw8 : k1_chk8 i v1310 v1312), (k1_t71_loop v1310 v1312).OK := fun i v1310 v1312 k1_hw8 => k1_hw8.1.2.1
theorem k1_off962_inb : ∀ (i : grid1.Coords) (v1310 : BitVec 32) (v1312 : BitVec 32) (k1_hw8 : k1_chk8 i v1310 v1312) (k1_t71 : Fin (k1_t71_loop v1310 v1312).trips), ∀ (k1_h65 : k1_cond65 v1310 v1312 k1_t71 = 1#1), ∀ a, (k1_off962 i v1310 v1312 k1_t71) a + S72x256.size a ≤ S100000x512.size a := fun i v1310 v1312 k1_hw8 k1_t71 k1_h65 => k1_hw8.1.2.2.1 k1_t71 k1_h65
theorem k1_off963_inb : ∀ (i : grid1.Coords) (v1310 : BitVec 32) (v1312 : BitVec 32) (k1_hw8 : k1_chk8 i v1310 v1312) (k1_t71 : Fin (k1_t71_loop v1310 v1312).trips), ∀ (k1_h65 : k1_cond65 v1310 v1312 k1_t71 = 1#1), ∀ (k1_h66 : k1_cond66 v1310 v1312 k1_t71 = 1#1), ∀ a, (k1_off963 i v1310 v1312 k1_t71) a + S72x256.size a ≤ S100000x512.size a := fun i v1310 v1312 k1_hw8 k1_t71 k1_h65 k1_h66 => k1_hw8.1.2.2.2.1 k1_t71 k1_h65 k1_h66
theorem k1_t72_ok : ∀ (i : grid1.Coords) (v1310 : BitVec 32) (v1312 : BitVec 32) (k1_hw8 : k1_chk8 i v1310 v1312) (k1_t71 : Fin (k1_t71_loop v1310 v1312).trips), (k1_t72_loop v1310 v1312 k1_t71).OK := fun i v1310 v1312 k1_hw8 k1_t71 => k1_hw8.1.2.2.2.2.1 k1_t71
theorem k1_off964_inb : ∀ (i : grid1.Coords) (v1310 : BitVec 32) (v1312 : BitVec 32) (k1_hw8 : k1_chk8 i v1310 v1312) (k1_t71 : Fin (k1_t71_loop v1310 v1312).trips) (k1_t72 : Fin (k1_t72_loop v1310 v1312 k1_t71).trips), ∀ a, (k1_off964 v1310 v1312 k1_t71 k1_t72) a + S1x16.size a ≤ S72x256.size a := fun i v1310 v1312 k1_hw8 k1_t71 k1_t72 => k1_hw8.1.2.2.2.2.2.1 k1_t71 k1_t72
theorem k1_off965_inb : ∀ (i : grid1.Coords) (v1310 : BitVec 32) (v1312 : BitVec 32) (k1_hw8 : k1_chk8 i v1310 v1312) (k1_t71 : Fin (k1_t71_loop v1310 v1312).trips) (k1_t72 : Fin (k1_t72_loop v1310 v1312 k1_t71).trips), ∀ a, (k1_off965 v1310 v1312 k1_t71 k1_t72) a + S1x16.size a ≤ S72x256.size a := fun i v1310 v1312 k1_hw8 k1_t71 k1_t72 => k1_hw8.1.2.2.2.2.2.2.1 k1_t71 k1_t72
theorem k1_off966_inb : ∀ (i : grid1.Coords) (v1310 : BitVec 32) (v1312 : BitVec 32) (k1_hw8 : k1_chk8 i v1310 v1312) (k1_t71 : Fin (k1_t71_loop v1310 v1312).trips) (k1_t72 : Fin (k1_t72_loop v1310 v1312 k1_t71).trips), ∀ a, (k1_off966 v1310 v1312 k1_t71 k1_t72) a + S1x16.size a ≤ S72x256.size a := fun i v1310 v1312 k1_hw8 k1_t71 k1_t72 => k1_hw8.1.2.2.2.2.2.2.2.1 k1_t71 k1_t72
theorem k1_off967_inb : ∀ (i : grid1.Coords) (v1310 : BitVec 32) (v1312 : BitVec 32) (k1_hw8 : k1_chk8 i v1310 v1312) (k1_t71 : Fin (k1_t71_loop v1310 v1312).trips) (k1_t72 : Fin (k1_t72_loop v1310 v1312 k1_t71).trips), ∀ a, (k1_off967 v1310 v1312 k1_t71 k1_t72) a + S1x16.size a ≤ S72x256.size a := fun i v1310 v1312 k1_hw8 k1_t71 k1_t72 => k1_hw8.1.2.2.2.2.2.2.2.2.1 k1_t71 k1_t72
theorem k1_off968_inb : ∀ (i : grid1.Coords) (v1310 : BitVec 32) (v1312 : BitVec 32) (k1_hw8 : k1_chk8 i v1310 v1312) (k1_t71 : Fin (k1_t71_loop v1310 v1312).trips) (k1_t72 : Fin (k1_t72_loop v1310 v1312 k1_t71).trips), ∀ a, (k1_off968 v1310 v1312 k1_t71 k1_t72) a + S1x16.size a ≤ S72x256.size a := fun i v1310 v1312 k1_hw8 k1_t71 k1_t72 => k1_hw8.1.2.2.2.2.2.2.2.2.2.1 k1_t71 k1_t72
theorem k1_off969_inb : ∀ (i : grid1.Coords) (v1310 : BitVec 32) (v1312 : BitVec 32) (k1_hw8 : k1_chk8 i v1310 v1312) (k1_t71 : Fin (k1_t71_loop v1310 v1312).trips) (k1_t72 : Fin (k1_t72_loop v1310 v1312 k1_t71).trips), ∀ a, (k1_off969 v1310 v1312 k1_t71 k1_t72) a + S1x16.size a ≤ S72x256.size a := fun i v1310 v1312 k1_hw8 k1_t71 k1_t72 => k1_hw8.1.2.2.2.2.2.2.2.2.2.2.1 k1_t71 k1_t72
theorem k1_off970_inb : ∀ (i : grid1.Coords) (v1310 : BitVec 32) (v1312 : BitVec 32) (k1_hw8 : k1_chk8 i v1310 v1312) (k1_t71 : Fin (k1_t71_loop v1310 v1312).trips) (k1_t72 : Fin (k1_t72_loop v1310 v1312 k1_t71).trips), ∀ a, (k1_off970 v1310 v1312 k1_t71 k1_t72) a + S1x16.size a ≤ S72x256.size a := fun i v1310 v1312 k1_hw8 k1_t71 k1_t72 => k1_hw8.1.2.2.2.2.2.2.2.2.2.2.2.1 k1_t71 k1_t72
theorem k1_off971_inb : ∀ (i : grid1.Coords) (v1310 : BitVec 32) (v1312 : BitVec 32) (k1_hw8 : k1_chk8 i v1310 v1312) (k1_t71 : Fin (k1_t71_loop v1310 v1312).trips) (k1_t72 : Fin (k1_t72_loop v1310 v1312 k1_t71).trips), ∀ a, (k1_off971 v1310 v1312 k1_t71 k1_t72) a + S1x16.size a ≤ S72x256.size a := fun i v1310 v1312 k1_hw8 k1_t71 k1_t72 => k1_hw8.1.2.2.2.2.2.2.2.2.2.2.2.2.1 k1_t71 k1_t72
theorem k1_off972_inb : ∀ (i : grid1.Coords) (v1310 : BitVec 32) (v1312 : BitVec 32) (k1_hw8 : k1_chk8 i v1310 v1312) (k1_t71 : Fin (k1_t71_loop v1310 v1312).trips) (k1_t72 : Fin (k1_t72_loop v1310 v1312 k1_t71).trips), ∀ a, (k1_off972 v1310 v1312 k1_t71 k1_t72) a + S1x16.size a ≤ S72x256.size a := fun i v1310 v1312 k1_hw8 k1_t71 k1_t72 => k1_hw8.1.2.2.2.2.2.2.2.2.2.2.2.2.2.1 k1_t71 k1_t72
theorem k1_off973_inb : ∀ (i : grid1.Coords) (v1310 : BitVec 32) (v1312 : BitVec 32) (k1_hw8 : k1_chk8 i v1310 v1312) (k1_t71 : Fin (k1_t71_loop v1310 v1312).trips) (k1_t72 : Fin (k1_t72_loop v1310 v1312 k1_t71).trips), ∀ a, (k1_off973 v1310 v1312 k1_t71 k1_t72) a + S1x16.size a ≤ S72x256.size a := fun i v1310 v1312 k1_hw8 k1_t71 k1_t72 => k1_hw8.1.2.2.2.2.2.2.2.2.2.2.2.2.2.2.1 k1_t71 k1_t72
theorem k1_off974_inb : ∀ (i : grid1.Coords) (v1310 : BitVec 32) (v1312 : BitVec 32) (k1_hw8 : k1_chk8 i v1310 v1312) (k1_t71 : Fin (k1_t71_loop v1310 v1312).trips) (k1_t72 : Fin (k1_t72_loop v1310 v1312 k1_t71).trips), ∀ a, (k1_off974 v1310 v1312 k1_t71 k1_t72) a + S1x16.size a ≤ S72x256.size a := fun i v1310 v1312 k1_hw8 k1_t71 k1_t72 => k1_hw8.1.2.2.2.2.2.2.2.2.2.2.2.2.2.2.2.1 k1_t71 k1_t72
theorem k1_off975_inb : ∀ (i : grid1.Coords) (v1310 : BitVec 32) (v1312 : BitVec 32) (k1_hw8 : k1_chk8 i v1310 v1312) (k1_t71 : Fin (k1_t71_loop v1310 v1312).trips) (k1_t72 : Fin (k1_t72_loop v1310 v1312 k1_t71).trips), ∀ a, (k1_off975 v1310 v1312 k1_t71 k1_t72) a + S1x16.size a ≤ S72x256.size a := fun i v1310 v1312 k1_hw8 k1_t71 k1_t72 => k1_hw8.1.2.2.2.2.2.2.2.2.2.2.2.2.2.2.2.2.1 k1_t71 k1_t72
theorem k1_off976_inb : ∀ (i : grid1.Coords) (v1310 : BitVec 32) (v1312 : BitVec 32) (k1_hw8 : k1_chk8 i v1310 v1312) (k1_t71 : Fin (k1_t71_loop v1310 v1312).trips) (k1_t72 : Fin (k1_t72_loop v1310 v1312 k1_t71).trips), ∀ a, (k1_off976 v1310 v1312 k1_t71 k1_t72) a + S1x16.size a ≤ S72x256.size a := fun i v1310 v1312 k1_hw8 k1_t71 k1_t72 => k1_hw8.1.2.2.2.2.2.2.2.2.2.2.2.2.2.2.2.2.2.1 k1_t71 k1_t72
theorem k1_off977_inb : ∀ (i : grid1.Coords) (v1310 : BitVec 32) (v1312 : BitVec 32) (k1_hw8 : k1_chk8 i v1310 v1312) (k1_t71 : Fin (k1_t71_loop v1310 v1312).trips) (k1_t72 : Fin (k1_t72_loop v1310 v1312 k1_t71).trips), ∀ a, (k1_off977 v1310 v1312 k1_t71 k1_t72) a + S1x16.size a ≤ S72x256.size a := fun i v1310 v1312 k1_hw8 k1_t71 k1_t72 => k1_hw8.1.2.2.2.2.2.2.2.2.2.2.2.2.2.2.2.2.2.2.1 k1_t71 k1_t72
theorem k1_off978_inb : ∀ (i : grid1.Coords) (v1310 : BitVec 32) (v1312 : BitVec 32) (k1_hw8 : k1_chk8 i v1310 v1312) (k1_t71 : Fin (k1_t71_loop v1310 v1312).trips) (k1_t72 : Fin (k1_t72_loop v1310 v1312 k1_t71).trips), ∀ a, (k1_off978 v1310 v1312 k1_t71 k1_t72) a + S1x16.size a ≤ S72x256.size a := fun i v1310 v1312 k1_hw8 k1_t71 k1_t72 => k1_hw8.1.2.2.2.2.2.2.2.2.2.2.2.2.2.2.2.2.2.2.2.1 k1_t71 k1_t72
theorem k1_off979_inb : ∀ (i : grid1.Coords) (v1310 : BitVec 32) (v1312 : BitVec 32) (k1_hw8 : k1_chk8 i v1310 v1312) (k1_t71 : Fin (k1_t71_loop v1310 v1312).trips) (k1_t72 : Fin (k1_t72_loop v1310 v1312 k1_t71).trips), ∀ a, (k1_off979 v1310 v1312 k1_t71 k1_t72) a + S1x16.size a ≤ S72x256.size a := fun i v1310 v1312 k1_hw8 k1_t71 k1_t72 => k1_hw8.1.2.2.2.2.2.2.2.2.2.2.2.2.2.2.2.2.2.2.2.2.1 k1_t71 k1_t72
theorem k1_t73_ok : ∀ (i : grid1.Coords) (v1310 : BitVec 32) (v1312 : BitVec 32) (k1_hw8 : k1_chk8 i v1310 v1312) (k1_t71 : Fin (k1_t71_loop v1310 v1312).trips), (k1_t73_loop v1310 v1312 k1_t71).OK := fun i v1310 v1312 k1_hw8 k1_t71 => k1_hw8.1.2.2.2.2.2.2.2.2.2.2.2.2.2.2.2.2.2.2.2.2.2.1 k1_t71
theorem k1_off980_inb : ∀ (i : grid1.Coords) (v1310 : BitVec 32) (v1312 : BitVec 32) (k1_hw8 : k1_chk8 i v1310 v1312) (k1_t71 : Fin (k1_t71_loop v1310 v1312).trips) (k1_t73 : Fin (k1_t73_loop v1310 v1312 k1_t71).trips), ∀ a, (k1_off980 v1310 v1312 k1_t71 k1_t73) a + S1x16.size a ≤ S72x256.size a := fun i v1310 v1312 k1_hw8 k1_t71 k1_t73 => k1_hw8.1.2.2.2.2.2.2.2.2.2.2.2.2.2.2.2.2.2.2.2.2.2.2.1 k1_t71 k1_t73
theorem k1_off981_inb : ∀ (i : grid1.Coords) (v1310 : BitVec 32) (v1312 : BitVec 32) (k1_hw8 : k1_chk8 i v1310 v1312) (k1_t71 : Fin (k1_t71_loop v1310 v1312).trips) (k1_t73 : Fin (k1_t73_loop v1310 v1312 k1_t71).trips), ∀ a, (k1_off981 v1310 v1312 k1_t71 k1_t73) a + S1x16.size a ≤ S72x256.size a := fun i v1310 v1312 k1_hw8 k1_t71 k1_t73 => k1_hw8.1.2.2.2.2.2.2.2.2.2.2.2.2.2.2.2.2.2.2.2.2.2.2.2.1 k1_t71 k1_t73
theorem k1_off982_inb : ∀ (i : grid1.Coords) (v1310 : BitVec 32) (v1312 : BitVec 32) (k1_hw8 : k1_chk8 i v1310 v1312) (k1_t71 : Fin (k1_t71_loop v1310 v1312).trips) (k1_t73 : Fin (k1_t73_loop v1310 v1312 k1_t71).trips), ∀ a, (k1_off982 v1310 v1312 k1_t71 k1_t73) a + S1x16.size a ≤ S72x256.size a := fun i v1310 v1312 k1_hw8 k1_t71 k1_t73 => k1_hw8.1.2.2.2.2.2.2.2.2.2.2.2.2.2.2.2.2.2.2.2.2.2.2.2.2.1 k1_t71 k1_t73
theorem k1_off983_inb : ∀ (i : grid1.Coords) (v1310 : BitVec 32) (v1312 : BitVec 32) (k1_hw8 : k1_chk8 i v1310 v1312) (k1_t71 : Fin (k1_t71_loop v1310 v1312).trips) (k1_t73 : Fin (k1_t73_loop v1310 v1312 k1_t71).trips), ∀ a, (k1_off983 v1310 v1312 k1_t71 k1_t73) a + S1x16.size a ≤ S72x256.size a := fun i v1310 v1312 k1_hw8 k1_t71 k1_t73 => k1_hw8.1.2.2.2.2.2.2.2.2.2.2.2.2.2.2.2.2.2.2.2.2.2.2.2.2.2.1 k1_t71 k1_t73
theorem k1_off984_inb : ∀ (i : grid1.Coords) (v1310 : BitVec 32) (v1312 : BitVec 32) (k1_hw8 : k1_chk8 i v1310 v1312) (k1_t71 : Fin (k1_t71_loop v1310 v1312).trips) (k1_t73 : Fin (k1_t73_loop v1310 v1312 k1_t71).trips), ∀ a, (k1_off984 v1310 v1312 k1_t71 k1_t73) a + S1x16.size a ≤ S72x256.size a := fun i v1310 v1312 k1_hw8 k1_t71 k1_t73 => k1_hw8.1.2.2.2.2.2.2.2.2.2.2.2.2.2.2.2.2.2.2.2.2.2.2.2.2.2.2.1 k1_t71 k1_t73
theorem k1_off985_inb : ∀ (i : grid1.Coords) (v1310 : BitVec 32) (v1312 : BitVec 32) (k1_hw8 : k1_chk8 i v1310 v1312) (k1_t71 : Fin (k1_t71_loop v1310 v1312).trips) (k1_t73 : Fin (k1_t73_loop v1310 v1312 k1_t71).trips), ∀ a, (k1_off985 v1310 v1312 k1_t71 k1_t73) a + S1x16.size a ≤ S72x256.size a := fun i v1310 v1312 k1_hw8 k1_t71 k1_t73 => k1_hw8.1.2.2.2.2.2.2.2.2.2.2.2.2.2.2.2.2.2.2.2.2.2.2.2.2.2.2.2.1 k1_t71 k1_t73
theorem k1_off986_inb : ∀ (i : grid1.Coords) (v1310 : BitVec 32) (v1312 : BitVec 32) (k1_hw8 : k1_chk8 i v1310 v1312) (k1_t71 : Fin (k1_t71_loop v1310 v1312).trips) (k1_t73 : Fin (k1_t73_loop v1310 v1312 k1_t71).trips), ∀ a, (k1_off986 v1310 v1312 k1_t71 k1_t73) a + S1x16.size a ≤ S72x256.size a := fun i v1310 v1312 k1_hw8 k1_t71 k1_t73 => k1_hw8.1.2.2.2.2.2.2.2.2.2.2.2.2.2.2.2.2.2.2.2.2.2.2.2.2.2.2.2.2.1 k1_t71 k1_t73
theorem k1_off987_inb : ∀ (i : grid1.Coords) (v1310 : BitVec 32) (v1312 : BitVec 32) (k1_hw8 : k1_chk8 i v1310 v1312) (k1_t71 : Fin (k1_t71_loop v1310 v1312).trips) (k1_t73 : Fin (k1_t73_loop v1310 v1312 k1_t71).trips), ∀ a, (k1_off987 v1310 v1312 k1_t71 k1_t73) a + S1x16.size a ≤ S72x256.size a := fun i v1310 v1312 k1_hw8 k1_t71 k1_t73 => k1_hw8.1.2.2.2.2.2.2.2.2.2.2.2.2.2.2.2.2.2.2.2.2.2.2.2.2.2.2.2.2.2.1 k1_t71 k1_t73
theorem k1_off988_inb : ∀ (i : grid1.Coords) (v1310 : BitVec 32) (v1312 : BitVec 32) (k1_hw8 : k1_chk8 i v1310 v1312) (k1_t71 : Fin (k1_t71_loop v1310 v1312).trips) (k1_t73 : Fin (k1_t73_loop v1310 v1312 k1_t71).trips), ∀ a, (k1_off988 v1310 v1312 k1_t71 k1_t73) a + S1x16.size a ≤ S72x256.size a := fun i v1310 v1312 k1_hw8 k1_t71 k1_t73 => k1_hw8.1.2.2.2.2.2.2.2.2.2.2.2.2.2.2.2.2.2.2.2.2.2.2.2.2.2.2.2.2.2.2.1 k1_t71 k1_t73
theorem k1_off989_inb : ∀ (i : grid1.Coords) (v1310 : BitVec 32) (v1312 : BitVec 32) (k1_hw8 : k1_chk8 i v1310 v1312) (k1_t71 : Fin (k1_t71_loop v1310 v1312).trips) (k1_t73 : Fin (k1_t73_loop v1310 v1312 k1_t71).trips), ∀ a, (k1_off989 v1310 v1312 k1_t71 k1_t73) a + S1x16.size a ≤ S72x256.size a := fun i v1310 v1312 k1_hw8 k1_t71 k1_t73 => k1_hw8.1.2.2.2.2.2.2.2.2.2.2.2.2.2.2.2.2.2.2.2.2.2.2.2.2.2.2.2.2.2.2.2 k1_t71 k1_t73
theorem k1_off990_inb : ∀ (i : grid1.Coords) (v1310 : BitVec 32) (v1312 : BitVec 32) (k1_hw8 : k1_chk8 i v1310 v1312) (k1_t71 : Fin (k1_t71_loop v1310 v1312).trips) (k1_t73 : Fin (k1_t73_loop v1310 v1312 k1_t71).trips), ∀ a, (k1_off990 v1310 v1312 k1_t71 k1_t73) a + S1x16.size a ≤ S72x256.size a := fun i v1310 v1312 k1_hw8 k1_t71 k1_t73 => k1_hw8.2.1.1 k1_t71 k1_t73
theorem k1_off991_inb : ∀ (i : grid1.Coords) (v1310 : BitVec 32) (v1312 : BitVec 32) (k1_hw8 : k1_chk8 i v1310 v1312) (k1_t71 : Fin (k1_t71_loop v1310 v1312).trips) (k1_t73 : Fin (k1_t73_loop v1310 v1312 k1_t71).trips), ∀ a, (k1_off991 v1310 v1312 k1_t71 k1_t73) a + S1x16.size a ≤ S72x256.size a := fun i v1310 v1312 k1_hw8 k1_t71 k1_t73 => k1_hw8.2.1.2.1 k1_t71 k1_t73
theorem k1_off992_inb : ∀ (i : grid1.Coords) (v1310 : BitVec 32) (v1312 : BitVec 32) (k1_hw8 : k1_chk8 i v1310 v1312) (k1_t71 : Fin (k1_t71_loop v1310 v1312).trips) (k1_t73 : Fin (k1_t73_loop v1310 v1312 k1_t71).trips), ∀ a, (k1_off992 v1310 v1312 k1_t71 k1_t73) a + S1x16.size a ≤ S72x256.size a := fun i v1310 v1312 k1_hw8 k1_t71 k1_t73 => k1_hw8.2.1.2.2.1 k1_t71 k1_t73
theorem k1_off993_inb : ∀ (i : grid1.Coords) (v1310 : BitVec 32) (v1312 : BitVec 32) (k1_hw8 : k1_chk8 i v1310 v1312) (k1_t71 : Fin (k1_t71_loop v1310 v1312).trips) (k1_t73 : Fin (k1_t73_loop v1310 v1312 k1_t71).trips), ∀ a, (k1_off993 v1310 v1312 k1_t71 k1_t73) a + S1x16.size a ≤ S72x256.size a := fun i v1310 v1312 k1_hw8 k1_t71 k1_t73 => k1_hw8.2.1.2.2.2.1 k1_t71 k1_t73
theorem k1_off994_inb : ∀ (i : grid1.Coords) (v1310 : BitVec 32) (v1312 : BitVec 32) (k1_hw8 : k1_chk8 i v1310 v1312) (k1_t71 : Fin (k1_t71_loop v1310 v1312).trips) (k1_t73 : Fin (k1_t73_loop v1310 v1312 k1_t71).trips), ∀ a, (k1_off994 v1310 v1312 k1_t71 k1_t73) a + S1x16.size a ≤ S72x256.size a := fun i v1310 v1312 k1_hw8 k1_t71 k1_t73 => k1_hw8.2.1.2.2.2.2.1 k1_t71 k1_t73
theorem k1_off995_inb : ∀ (i : grid1.Coords) (v1310 : BitVec 32) (v1312 : BitVec 32) (k1_hw8 : k1_chk8 i v1310 v1312) (k1_t71 : Fin (k1_t71_loop v1310 v1312).trips) (k1_t73 : Fin (k1_t73_loop v1310 v1312 k1_t71).trips), ∀ a, (k1_off995 v1310 v1312 k1_t71 k1_t73) a + S1x16.size a ≤ S72x256.size a := fun i v1310 v1312 k1_hw8 k1_t71 k1_t73 => k1_hw8.2.1.2.2.2.2.2.1 k1_t71 k1_t73
theorem k1_off996_inb : ∀ (i : grid1.Coords) (v1310 : BitVec 32) (v1312 : BitVec 32) (k1_hw8 : k1_chk8 i v1310 v1312) (k1_t71 : Fin (k1_t71_loop v1310 v1312).trips), ∀ (k1_h67 : k1_cond67 v1310 v1312 k1_t71 = 1#1), ∀ a, (k1_off996 i v1310 v1312 k1_t71) a + S72x256.size a ≤ S100000x512.size a := fun i v1310 v1312 k1_hw8 k1_t71 k1_h67 => k1_hw8.2.1.2.2.2.2.2.2.1 k1_t71 k1_h67
theorem k1_off997_inb : ∀ (i : grid1.Coords) (v1310 : BitVec 32) (v1312 : BitVec 32) (k1_hw8 : k1_chk8 i v1310 v1312) (k1_t71 : Fin (k1_t71_loop v1310 v1312).trips), ∀ (k1_h67 : k1_cond67 v1310 v1312 k1_t71 = 1#1), ∀ (k1_h68 : k1_cond68 v1310 v1312 k1_t71 = 1#1), ∀ a, (k1_off997 i v1310 v1312 k1_t71) a + S72x256.size a ≤ S100000x512.size a := fun i v1310 v1312 k1_hw8 k1_t71 k1_h67 k1_h68 => k1_hw8.2.1.2.2.2.2.2.2.2.1 k1_t71 k1_h67 k1_h68
theorem k1_t74_ok : ∀ (i : grid1.Coords) (v1310 : BitVec 32) (v1312 : BitVec 32) (k1_hw8 : k1_chk8 i v1310 v1312) (k1_t71 : Fin (k1_t71_loop v1310 v1312).trips), (k1_t74_loop v1310 v1312 k1_t71).OK := fun i v1310 v1312 k1_hw8 k1_t71 => k1_hw8.2.1.2.2.2.2.2.2.2.2.1 k1_t71
theorem k1_off998_inb : ∀ (i : grid1.Coords) (v1310 : BitVec 32) (v1312 : BitVec 32) (k1_hw8 : k1_chk8 i v1310 v1312) (k1_t71 : Fin (k1_t71_loop v1310 v1312).trips) (k1_t74 : Fin (k1_t74_loop v1310 v1312 k1_t71).trips), ∀ a, (k1_off998 v1310 v1312 k1_t71 k1_t74) a + S1x16.size a ≤ S72x256.size a := fun i v1310 v1312 k1_hw8 k1_t71 k1_t74 => k1_hw8.2.1.2.2.2.2.2.2.2.2.2.1 k1_t71 k1_t74
theorem k1_off999_inb : ∀ (i : grid1.Coords) (v1310 : BitVec 32) (v1312 : BitVec 32) (k1_hw8 : k1_chk8 i v1310 v1312) (k1_t71 : Fin (k1_t71_loop v1310 v1312).trips) (k1_t74 : Fin (k1_t74_loop v1310 v1312 k1_t71).trips), ∀ a, (k1_off999 v1310 v1312 k1_t71 k1_t74) a + S1x16.size a ≤ S72x256.size a := fun i v1310 v1312 k1_hw8 k1_t71 k1_t74 => k1_hw8.2.1.2.2.2.2.2.2.2.2.2.2.1 k1_t71 k1_t74
theorem k1_off1000_inb : ∀ (i : grid1.Coords) (v1310 : BitVec 32) (v1312 : BitVec 32) (k1_hw8 : k1_chk8 i v1310 v1312) (k1_t71 : Fin (k1_t71_loop v1310 v1312).trips) (k1_t74 : Fin (k1_t74_loop v1310 v1312 k1_t71).trips), ∀ a, (k1_off1000 v1310 v1312 k1_t71 k1_t74) a + S1x16.size a ≤ S72x256.size a := fun i v1310 v1312 k1_hw8 k1_t71 k1_t74 => k1_hw8.2.1.2.2.2.2.2.2.2.2.2.2.2.1 k1_t71 k1_t74
theorem k1_off1001_inb : ∀ (i : grid1.Coords) (v1310 : BitVec 32) (v1312 : BitVec 32) (k1_hw8 : k1_chk8 i v1310 v1312) (k1_t71 : Fin (k1_t71_loop v1310 v1312).trips) (k1_t74 : Fin (k1_t74_loop v1310 v1312 k1_t71).trips), ∀ a, (k1_off1001 v1310 v1312 k1_t71 k1_t74) a + S1x16.size a ≤ S72x256.size a := fun i v1310 v1312 k1_hw8 k1_t71 k1_t74 => k1_hw8.2.1.2.2.2.2.2.2.2.2.2.2.2.2.1 k1_t71 k1_t74
theorem k1_off1002_inb : ∀ (i : grid1.Coords) (v1310 : BitVec 32) (v1312 : BitVec 32) (k1_hw8 : k1_chk8 i v1310 v1312) (k1_t71 : Fin (k1_t71_loop v1310 v1312).trips) (k1_t74 : Fin (k1_t74_loop v1310 v1312 k1_t71).trips), ∀ a, (k1_off1002 v1310 v1312 k1_t71 k1_t74) a + S1x16.size a ≤ S72x256.size a := fun i v1310 v1312 k1_hw8 k1_t71 k1_t74 => k1_hw8.2.1.2.2.2.2.2.2.2.2.2.2.2.2.2.1 k1_t71 k1_t74
theorem k1_off1003_inb : ∀ (i : grid1.Coords) (v1310 : BitVec 32) (v1312 : BitVec 32) (k1_hw8 : k1_chk8 i v1310 v1312) (k1_t71 : Fin (k1_t71_loop v1310 v1312).trips) (k1_t74 : Fin (k1_t74_loop v1310 v1312 k1_t71).trips), ∀ a, (k1_off1003 v1310 v1312 k1_t71 k1_t74) a + S1x16.size a ≤ S72x256.size a := fun i v1310 v1312 k1_hw8 k1_t71 k1_t74 => k1_hw8.2.1.2.2.2.2.2.2.2.2.2.2.2.2.2.2.1 k1_t71 k1_t74
theorem k1_off1004_inb : ∀ (i : grid1.Coords) (v1310 : BitVec 32) (v1312 : BitVec 32) (k1_hw8 : k1_chk8 i v1310 v1312) (k1_t71 : Fin (k1_t71_loop v1310 v1312).trips) (k1_t74 : Fin (k1_t74_loop v1310 v1312 k1_t71).trips), ∀ a, (k1_off1004 v1310 v1312 k1_t71 k1_t74) a + S1x16.size a ≤ S72x256.size a := fun i v1310 v1312 k1_hw8 k1_t71 k1_t74 => k1_hw8.2.1.2.2.2.2.2.2.2.2.2.2.2.2.2.2.2.1 k1_t71 k1_t74
theorem k1_off1005_inb : ∀ (i : grid1.Coords) (v1310 : BitVec 32) (v1312 : BitVec 32) (k1_hw8 : k1_chk8 i v1310 v1312) (k1_t71 : Fin (k1_t71_loop v1310 v1312).trips) (k1_t74 : Fin (k1_t74_loop v1310 v1312 k1_t71).trips), ∀ a, (k1_off1005 v1310 v1312 k1_t71 k1_t74) a + S1x16.size a ≤ S72x256.size a := fun i v1310 v1312 k1_hw8 k1_t71 k1_t74 => k1_hw8.2.1.2.2.2.2.2.2.2.2.2.2.2.2.2.2.2.2.1 k1_t71 k1_t74
theorem k1_off1006_inb : ∀ (i : grid1.Coords) (v1310 : BitVec 32) (v1312 : BitVec 32) (k1_hw8 : k1_chk8 i v1310 v1312) (k1_t71 : Fin (k1_t71_loop v1310 v1312).trips) (k1_t74 : Fin (k1_t74_loop v1310 v1312 k1_t71).trips), ∀ a, (k1_off1006 v1310 v1312 k1_t71 k1_t74) a + S1x16.size a ≤ S72x256.size a := fun i v1310 v1312 k1_hw8 k1_t71 k1_t74 => k1_hw8.2.1.2.2.2.2.2.2.2.2.2.2.2.2.2.2.2.2.2.1 k1_t71 k1_t74
theorem k1_off1007_inb : ∀ (i : grid1.Coords) (v1310 : BitVec 32) (v1312 : BitVec 32) (k1_hw8 : k1_chk8 i v1310 v1312) (k1_t71 : Fin (k1_t71_loop v1310 v1312).trips) (k1_t74 : Fin (k1_t74_loop v1310 v1312 k1_t71).trips), ∀ a, (k1_off1007 v1310 v1312 k1_t71 k1_t74) a + S1x16.size a ≤ S72x256.size a := fun i v1310 v1312 k1_hw8 k1_t71 k1_t74 => k1_hw8.2.1.2.2.2.2.2.2.2.2.2.2.2.2.2.2.2.2.2.2.1 k1_t71 k1_t74
theorem k1_off1008_inb : ∀ (i : grid1.Coords) (v1310 : BitVec 32) (v1312 : BitVec 32) (k1_hw8 : k1_chk8 i v1310 v1312) (k1_t71 : Fin (k1_t71_loop v1310 v1312).trips) (k1_t74 : Fin (k1_t74_loop v1310 v1312 k1_t71).trips), ∀ a, (k1_off1008 v1310 v1312 k1_t71 k1_t74) a + S1x16.size a ≤ S72x256.size a := fun i v1310 v1312 k1_hw8 k1_t71 k1_t74 => k1_hw8.2.1.2.2.2.2.2.2.2.2.2.2.2.2.2.2.2.2.2.2.2.1 k1_t71 k1_t74
theorem k1_off1009_inb : ∀ (i : grid1.Coords) (v1310 : BitVec 32) (v1312 : BitVec 32) (k1_hw8 : k1_chk8 i v1310 v1312) (k1_t71 : Fin (k1_t71_loop v1310 v1312).trips) (k1_t74 : Fin (k1_t74_loop v1310 v1312 k1_t71).trips), ∀ a, (k1_off1009 v1310 v1312 k1_t71 k1_t74) a + S1x16.size a ≤ S72x256.size a := fun i v1310 v1312 k1_hw8 k1_t71 k1_t74 => k1_hw8.2.1.2.2.2.2.2.2.2.2.2.2.2.2.2.2.2.2.2.2.2.2.1 k1_t71 k1_t74
theorem k1_off1010_inb : ∀ (i : grid1.Coords) (v1310 : BitVec 32) (v1312 : BitVec 32) (k1_hw8 : k1_chk8 i v1310 v1312) (k1_t71 : Fin (k1_t71_loop v1310 v1312).trips) (k1_t74 : Fin (k1_t74_loop v1310 v1312 k1_t71).trips), ∀ a, (k1_off1010 v1310 v1312 k1_t71 k1_t74) a + S1x16.size a ≤ S72x256.size a := fun i v1310 v1312 k1_hw8 k1_t71 k1_t74 => k1_hw8.2.1.2.2.2.2.2.2.2.2.2.2.2.2.2.2.2.2.2.2.2.2.2.1 k1_t71 k1_t74
theorem k1_off1011_inb : ∀ (i : grid1.Coords) (v1310 : BitVec 32) (v1312 : BitVec 32) (k1_hw8 : k1_chk8 i v1310 v1312) (k1_t71 : Fin (k1_t71_loop v1310 v1312).trips) (k1_t74 : Fin (k1_t74_loop v1310 v1312 k1_t71).trips), ∀ a, (k1_off1011 v1310 v1312 k1_t71 k1_t74) a + S1x16.size a ≤ S72x256.size a := fun i v1310 v1312 k1_hw8 k1_t71 k1_t74 => k1_hw8.2.1.2.2.2.2.2.2.2.2.2.2.2.2.2.2.2.2.2.2.2.2.2.2.1 k1_t71 k1_t74
theorem k1_off1012_inb : ∀ (i : grid1.Coords) (v1310 : BitVec 32) (v1312 : BitVec 32) (k1_hw8 : k1_chk8 i v1310 v1312) (k1_t71 : Fin (k1_t71_loop v1310 v1312).trips) (k1_t74 : Fin (k1_t74_loop v1310 v1312 k1_t71).trips), ∀ a, (k1_off1012 v1310 v1312 k1_t71 k1_t74) a + S1x16.size a ≤ S72x256.size a := fun i v1310 v1312 k1_hw8 k1_t71 k1_t74 => k1_hw8.2.1.2.2.2.2.2.2.2.2.2.2.2.2.2.2.2.2.2.2.2.2.2.2.2.1 k1_t71 k1_t74
theorem k1_off1013_inb : ∀ (i : grid1.Coords) (v1310 : BitVec 32) (v1312 : BitVec 32) (k1_hw8 : k1_chk8 i v1310 v1312) (k1_t71 : Fin (k1_t71_loop v1310 v1312).trips) (k1_t74 : Fin (k1_t74_loop v1310 v1312 k1_t71).trips), ∀ a, (k1_off1013 v1310 v1312 k1_t71 k1_t74) a + S1x16.size a ≤ S72x256.size a := fun i v1310 v1312 k1_hw8 k1_t71 k1_t74 => k1_hw8.2.1.2.2.2.2.2.2.2.2.2.2.2.2.2.2.2.2.2.2.2.2.2.2.2.2.1 k1_t71 k1_t74
theorem k1_t75_ok : ∀ (i : grid1.Coords) (v1310 : BitVec 32) (v1312 : BitVec 32) (k1_hw8 : k1_chk8 i v1310 v1312) (k1_t71 : Fin (k1_t71_loop v1310 v1312).trips), (k1_t75_loop v1310 v1312 k1_t71).OK := fun i v1310 v1312 k1_hw8 k1_t71 => k1_hw8.2.1.2.2.2.2.2.2.2.2.2.2.2.2.2.2.2.2.2.2.2.2.2.2.2.2.2.1 k1_t71
theorem k1_off1014_inb : ∀ (i : grid1.Coords) (v1310 : BitVec 32) (v1312 : BitVec 32) (k1_hw8 : k1_chk8 i v1310 v1312) (k1_t71 : Fin (k1_t71_loop v1310 v1312).trips) (k1_t75 : Fin (k1_t75_loop v1310 v1312 k1_t71).trips), ∀ a, (k1_off1014 v1310 v1312 k1_t71 k1_t75) a + S1x16.size a ≤ S72x256.size a := fun i v1310 v1312 k1_hw8 k1_t71 k1_t75 => k1_hw8.2.1.2.2.2.2.2.2.2.2.2.2.2.2.2.2.2.2.2.2.2.2.2.2.2.2.2.2.1 k1_t71 k1_t75
theorem k1_off1015_inb : ∀ (i : grid1.Coords) (v1310 : BitVec 32) (v1312 : BitVec 32) (k1_hw8 : k1_chk8 i v1310 v1312) (k1_t71 : Fin (k1_t71_loop v1310 v1312).trips) (k1_t75 : Fin (k1_t75_loop v1310 v1312 k1_t71).trips), ∀ a, (k1_off1015 v1310 v1312 k1_t71 k1_t75) a + S1x16.size a ≤ S72x256.size a := fun i v1310 v1312 k1_hw8 k1_t71 k1_t75 => k1_hw8.2.1.2.2.2.2.2.2.2.2.2.2.2.2.2.2.2.2.2.2.2.2.2.2.2.2.2.2.2.1 k1_t71 k1_t75
theorem k1_off1016_inb : ∀ (i : grid1.Coords) (v1310 : BitVec 32) (v1312 : BitVec 32) (k1_hw8 : k1_chk8 i v1310 v1312) (k1_t71 : Fin (k1_t71_loop v1310 v1312).trips) (k1_t75 : Fin (k1_t75_loop v1310 v1312 k1_t71).trips), ∀ a, (k1_off1016 v1310 v1312 k1_t71 k1_t75) a + S1x16.size a ≤ S72x256.size a := fun i v1310 v1312 k1_hw8 k1_t71 k1_t75 => k1_hw8.2.1.2.2.2.2.2.2.2.2.2.2.2.2.2.2.2.2.2.2.2.2.2.2.2.2.2.2.2.2.1 k1_t71 k1_t75
theorem k1_off1017_inb : ∀ (i : grid1.Coords) (v1310 : BitVec 32) (v1312 : BitVec 32) (k1_hw8 : k1_chk8 i v1310 v1312) (k1_t71 : Fin (k1_t71_loop v1310 v1312).trips) (k1_t75 : Fin (k1_t75_loop v1310 v1312 k1_t71).trips), ∀ a, (k1_off1017 v1310 v1312 k1_t71 k1_t75) a + S1x16.size a ≤ S72x256.size a := fun i v1310 v1312 k1_hw8 k1_t71 k1_t75 => k1_hw8.2.1.2.2.2.2.2.2.2.2.2.2.2.2.2.2.2.2.2.2.2.2.2.2.2.2.2.2.2.2.2.1 k1_t71 k1_t75
theorem k1_off1018_inb : ∀ (i : grid1.Coords) (v1310 : BitVec 32) (v1312 : BitVec 32) (k1_hw8 : k1_chk8 i v1310 v1312) (k1_t71 : Fin (k1_t71_loop v1310 v1312).trips) (k1_t75 : Fin (k1_t75_loop v1310 v1312 k1_t71).trips), ∀ a, (k1_off1018 v1310 v1312 k1_t71 k1_t75) a + S1x16.size a ≤ S72x256.size a := fun i v1310 v1312 k1_hw8 k1_t71 k1_t75 => k1_hw8.2.1.2.2.2.2.2.2.2.2.2.2.2.2.2.2.2.2.2.2.2.2.2.2.2.2.2.2.2.2.2.2.1 k1_t71 k1_t75
theorem k1_off1019_inb : ∀ (i : grid1.Coords) (v1310 : BitVec 32) (v1312 : BitVec 32) (k1_hw8 : k1_chk8 i v1310 v1312) (k1_t71 : Fin (k1_t71_loop v1310 v1312).trips) (k1_t75 : Fin (k1_t75_loop v1310 v1312 k1_t71).trips), ∀ a, (k1_off1019 v1310 v1312 k1_t71 k1_t75) a + S1x16.size a ≤ S72x256.size a := fun i v1310 v1312 k1_hw8 k1_t71 k1_t75 => k1_hw8.2.1.2.2.2.2.2.2.2.2.2.2.2.2.2.2.2.2.2.2.2.2.2.2.2.2.2.2.2.2.2.2.2 k1_t71 k1_t75
theorem k1_off1020_inb : ∀ (i : grid1.Coords) (v1310 : BitVec 32) (v1312 : BitVec 32) (k1_hw8 : k1_chk8 i v1310 v1312) (k1_t71 : Fin (k1_t71_loop v1310 v1312).trips) (k1_t75 : Fin (k1_t75_loop v1310 v1312 k1_t71).trips), ∀ a, (k1_off1020 v1310 v1312 k1_t71 k1_t75) a + S1x16.size a ≤ S72x256.size a := fun i v1310 v1312 k1_hw8 k1_t71 k1_t75 => k1_hw8.2.2.1.1 k1_t71 k1_t75
theorem k1_off1021_inb : ∀ (i : grid1.Coords) (v1310 : BitVec 32) (v1312 : BitVec 32) (k1_hw8 : k1_chk8 i v1310 v1312) (k1_t71 : Fin (k1_t71_loop v1310 v1312).trips) (k1_t75 : Fin (k1_t75_loop v1310 v1312 k1_t71).trips), ∀ a, (k1_off1021 v1310 v1312 k1_t71 k1_t75) a + S1x16.size a ≤ S72x256.size a := fun i v1310 v1312 k1_hw8 k1_t71 k1_t75 => k1_hw8.2.2.1.2.1 k1_t71 k1_t75
theorem k1_off1022_inb : ∀ (i : grid1.Coords) (v1310 : BitVec 32) (v1312 : BitVec 32) (k1_hw8 : k1_chk8 i v1310 v1312) (k1_t71 : Fin (k1_t71_loop v1310 v1312).trips) (k1_t75 : Fin (k1_t75_loop v1310 v1312 k1_t71).trips), ∀ a, (k1_off1022 v1310 v1312 k1_t71 k1_t75) a + S1x16.size a ≤ S72x256.size a := fun i v1310 v1312 k1_hw8 k1_t71 k1_t75 => k1_hw8.2.2.1.2.2.1 k1_t71 k1_t75
theorem k1_off1023_inb : ∀ (i : grid1.Coords) (v1310 : BitVec 32) (v1312 : BitVec 32) (k1_hw8 : k1_chk8 i v1310 v1312) (k1_t71 : Fin (k1_t71_loop v1310 v1312).trips) (k1_t75 : Fin (k1_t75_loop v1310 v1312 k1_t71).trips), ∀ a, (k1_off1023 v1310 v1312 k1_t71 k1_t75) a + S1x16.size a ≤ S72x256.size a := fun i v1310 v1312 k1_hw8 k1_t71 k1_t75 => k1_hw8.2.2.1.2.2.2.1 k1_t71 k1_t75
theorem k1_off1024_inb : ∀ (i : grid1.Coords) (v1310 : BitVec 32) (v1312 : BitVec 32) (k1_hw8 : k1_chk8 i v1310 v1312) (k1_t71 : Fin (k1_t71_loop v1310 v1312).trips) (k1_t75 : Fin (k1_t75_loop v1310 v1312 k1_t71).trips), ∀ a, (k1_off1024 v1310 v1312 k1_t71 k1_t75) a + S1x16.size a ≤ S72x256.size a := fun i v1310 v1312 k1_hw8 k1_t71 k1_t75 => k1_hw8.2.2.1.2.2.2.2.1 k1_t71 k1_t75
theorem k1_off1025_inb : ∀ (i : grid1.Coords) (v1310 : BitVec 32) (v1312 : BitVec 32) (k1_hw8 : k1_chk8 i v1310 v1312) (k1_t71 : Fin (k1_t71_loop v1310 v1312).trips) (k1_t75 : Fin (k1_t75_loop v1310 v1312 k1_t71).trips), ∀ a, (k1_off1025 v1310 v1312 k1_t71 k1_t75) a + S1x16.size a ≤ S72x256.size a := fun i v1310 v1312 k1_hw8 k1_t71 k1_t75 => k1_hw8.2.2.1.2.2.2.2.2.1 k1_t71 k1_t75
theorem k1_off1026_inb : ∀ (i : grid1.Coords) (v1310 : BitVec 32) (v1312 : BitVec 32) (k1_hw8 : k1_chk8 i v1310 v1312) (k1_t71 : Fin (k1_t71_loop v1310 v1312).trips) (k1_t75 : Fin (k1_t75_loop v1310 v1312 k1_t71).trips), ∀ a, (k1_off1026 v1310 v1312 k1_t71 k1_t75) a + S1x16.size a ≤ S72x256.size a := fun i v1310 v1312 k1_hw8 k1_t71 k1_t75 => k1_hw8.2.2.1.2.2.2.2.2.2.1 k1_t71 k1_t75
theorem k1_off1027_inb : ∀ (i : grid1.Coords) (v1310 : BitVec 32) (v1312 : BitVec 32) (k1_hw8 : k1_chk8 i v1310 v1312) (k1_t71 : Fin (k1_t71_loop v1310 v1312).trips) (k1_t75 : Fin (k1_t75_loop v1310 v1312 k1_t71).trips), ∀ a, (k1_off1027 v1310 v1312 k1_t71 k1_t75) a + S1x16.size a ≤ S72x256.size a := fun i v1310 v1312 k1_hw8 k1_t71 k1_t75 => k1_hw8.2.2.1.2.2.2.2.2.2.2.1 k1_t71 k1_t75
theorem k1_off1028_inb : ∀ (i : grid1.Coords) (v1310 : BitVec 32) (v1312 : BitVec 32) (k1_hw8 : k1_chk8 i v1310 v1312) (k1_t71 : Fin (k1_t71_loop v1310 v1312).trips) (k1_t75 : Fin (k1_t75_loop v1310 v1312 k1_t71).trips), ∀ a, (k1_off1028 v1310 v1312 k1_t71 k1_t75) a + S1x16.size a ≤ S72x256.size a := fun i v1310 v1312 k1_hw8 k1_t71 k1_t75 => k1_hw8.2.2.1.2.2.2.2.2.2.2.2.1 k1_t71 k1_t75
theorem k1_off1029_inb : ∀ (i : grid1.Coords) (v1310 : BitVec 32) (v1312 : BitVec 32) (k1_hw8 : k1_chk8 i v1310 v1312) (k1_t71 : Fin (k1_t71_loop v1310 v1312).trips) (k1_t75 : Fin (k1_t75_loop v1310 v1312 k1_t71).trips), ∀ a, (k1_off1029 v1310 v1312 k1_t71 k1_t75) a + S1x16.size a ≤ S72x256.size a := fun i v1310 v1312 k1_hw8 k1_t71 k1_t75 => k1_hw8.2.2.1.2.2.2.2.2.2.2.2.2.1 k1_t71 k1_t75
theorem k1_t76_ok : ∀ (i : grid1.Coords) (v1310 : BitVec 32) (v1312 : BitVec 32) (k1_hw8 : k1_chk8 i v1310 v1312), (k1_t76_loop v1310 v1312).OK := fun i v1310 v1312 k1_hw8 => k1_hw8.2.2.1.2.2.2.2.2.2.2.2.2.2.1
theorem k1_off1030_inb : ∀ (i : grid1.Coords) (v1310 : BitVec 32) (v1312 : BitVec 32) (k1_hw8 : k1_chk8 i v1310 v1312) (k1_t76 : Fin (k1_t76_loop v1310 v1312).trips), ∀ (k1_h69 : k1_cond69 v1310 v1312 k1_t76 = 1#1), ∀ a, (k1_off1030 i v1310 v1312 k1_t76) a + S72x256.size a ≤ S100000x512.size a := fun i v1310 v1312 k1_hw8 k1_t76 k1_h69 => k1_hw8.2.2.1.2.2.2.2.2.2.2.2.2.2.2.1 k1_t76 k1_h69
theorem k1_off1031_inb : ∀ (i : grid1.Coords) (v1310 : BitVec 32) (v1312 : BitVec 32) (k1_hw8 : k1_chk8 i v1310 v1312) (k1_t76 : Fin (k1_t76_loop v1310 v1312).trips), ∀ (k1_h69 : k1_cond69 v1310 v1312 k1_t76 = 1#1), ∀ (k1_h70 : k1_cond70 v1310 v1312 k1_t76 = 1#1), ∀ a, (k1_off1031 i v1310 v1312 k1_t76) a + S72x256.size a ≤ S100000x512.size a := fun i v1310 v1312 k1_hw8 k1_t76 k1_h69 k1_h70 => k1_hw8.2.2.1.2.2.2.2.2.2.2.2.2.2.2.2.1 k1_t76 k1_h69 k1_h70
theorem k1_t77_ok : ∀ (i : grid1.Coords) (v1310 : BitVec 32) (v1312 : BitVec 32) (k1_hw8 : k1_chk8 i v1310 v1312) (k1_t76 : Fin (k1_t76_loop v1310 v1312).trips), (k1_t77_loop v1310 v1312 k1_t76).OK := fun i v1310 v1312 k1_hw8 k1_t76 => k1_hw8.2.2.1.2.2.2.2.2.2.2.2.2.2.2.2.2.1 k1_t76
theorem k1_off1032_inb : ∀ (i : grid1.Coords) (v1310 : BitVec 32) (v1312 : BitVec 32) (k1_hw8 : k1_chk8 i v1310 v1312) (k1_t76 : Fin (k1_t76_loop v1310 v1312).trips) (k1_t77 : Fin (k1_t77_loop v1310 v1312 k1_t76).trips), ∀ a, (k1_off1032 v1310 v1312 k1_t76 k1_t77) a + S1x16.size a ≤ S72x256.size a := fun i v1310 v1312 k1_hw8 k1_t76 k1_t77 => k1_hw8.2.2.1.2.2.2.2.2.2.2.2.2.2.2.2.2.2.1 k1_t76 k1_t77
theorem k1_off1033_inb : ∀ (i : grid1.Coords) (v1310 : BitVec 32) (v1312 : BitVec 32) (k1_hw8 : k1_chk8 i v1310 v1312) (k1_t76 : Fin (k1_t76_loop v1310 v1312).trips) (k1_t77 : Fin (k1_t77_loop v1310 v1312 k1_t76).trips), ∀ a, (k1_off1033 v1310 v1312 k1_t76 k1_t77) a + S1x16.size a ≤ S72x256.size a := fun i v1310 v1312 k1_hw8 k1_t76 k1_t77 => k1_hw8.2.2.1.2.2.2.2.2.2.2.2.2.2.2.2.2.2.2.1 k1_t76 k1_t77
theorem k1_off1034_inb : ∀ (i : grid1.Coords) (v1310 : BitVec 32) (v1312 : BitVec 32) (k1_hw8 : k1_chk8 i v1310 v1312) (k1_t76 : Fin (k1_t76_loop v1310 v1312).trips) (k1_t77 : Fin (k1_t77_loop v1310 v1312 k1_t76).trips), ∀ a, (k1_off1034 v1310 v1312 k1_t76 k1_t77) a + S1x16.size a ≤ S72x256.size a := fun i v1310 v1312 k1_hw8 k1_t76 k1_t77 => k1_hw8.2.2.1.2.2.2.2.2.2.2.2.2.2.2.2.2.2.2.2.1 k1_t76 k1_t77
theorem k1_off1035_inb : ∀ (i : grid1.Coords) (v1310 : BitVec 32) (v1312 : BitVec 32) (k1_hw8 : k1_chk8 i v1310 v1312) (k1_t76 : Fin (k1_t76_loop v1310 v1312).trips) (k1_t77 : Fin (k1_t77_loop v1310 v1312 k1_t76).trips), ∀ a, (k1_off1035 v1310 v1312 k1_t76 k1_t77) a + S1x16.size a ≤ S72x256.size a := fun i v1310 v1312 k1_hw8 k1_t76 k1_t77 => k1_hw8.2.2.1.2.2.2.2.2.2.2.2.2.2.2.2.2.2.2.2.2.1 k1_t76 k1_t77
theorem k1_off1036_inb : ∀ (i : grid1.Coords) (v1310 : BitVec 32) (v1312 : BitVec 32) (k1_hw8 : k1_chk8 i v1310 v1312) (k1_t76 : Fin (k1_t76_loop v1310 v1312).trips) (k1_t77 : Fin (k1_t77_loop v1310 v1312 k1_t76).trips), ∀ a, (k1_off1036 v1310 v1312 k1_t76 k1_t77) a + S1x16.size a ≤ S72x256.size a := fun i v1310 v1312 k1_hw8 k1_t76 k1_t77 => k1_hw8.2.2.1.2.2.2.2.2.2.2.2.2.2.2.2.2.2.2.2.2.2.1 k1_t76 k1_t77
theorem k1_off1037_inb : ∀ (i : grid1.Coords) (v1310 : BitVec 32) (v1312 : BitVec 32) (k1_hw8 : k1_chk8 i v1310 v1312) (k1_t76 : Fin (k1_t76_loop v1310 v1312).trips) (k1_t77 : Fin (k1_t77_loop v1310 v1312 k1_t76).trips), ∀ a, (k1_off1037 v1310 v1312 k1_t76 k1_t77) a + S1x16.size a ≤ S72x256.size a := fun i v1310 v1312 k1_hw8 k1_t76 k1_t77 => k1_hw8.2.2.1.2.2.2.2.2.2.2.2.2.2.2.2.2.2.2.2.2.2.2.1 k1_t76 k1_t77
theorem k1_off1038_inb : ∀ (i : grid1.Coords) (v1310 : BitVec 32) (v1312 : BitVec 32) (k1_hw8 : k1_chk8 i v1310 v1312) (k1_t76 : Fin (k1_t76_loop v1310 v1312).trips) (k1_t77 : Fin (k1_t77_loop v1310 v1312 k1_t76).trips), ∀ a, (k1_off1038 v1310 v1312 k1_t76 k1_t77) a + S1x16.size a ≤ S72x256.size a := fun i v1310 v1312 k1_hw8 k1_t76 k1_t77 => k1_hw8.2.2.1.2.2.2.2.2.2.2.2.2.2.2.2.2.2.2.2.2.2.2.2.1 k1_t76 k1_t77
theorem k1_off1039_inb : ∀ (i : grid1.Coords) (v1310 : BitVec 32) (v1312 : BitVec 32) (k1_hw8 : k1_chk8 i v1310 v1312) (k1_t76 : Fin (k1_t76_loop v1310 v1312).trips) (k1_t77 : Fin (k1_t77_loop v1310 v1312 k1_t76).trips), ∀ a, (k1_off1039 v1310 v1312 k1_t76 k1_t77) a + S1x16.size a ≤ S72x256.size a := fun i v1310 v1312 k1_hw8 k1_t76 k1_t77 => k1_hw8.2.2.1.2.2.2.2.2.2.2.2.2.2.2.2.2.2.2.2.2.2.2.2.2.1 k1_t76 k1_t77
theorem k1_off1040_inb : ∀ (i : grid1.Coords) (v1310 : BitVec 32) (v1312 : BitVec 32) (k1_hw8 : k1_chk8 i v1310 v1312) (k1_t76 : Fin (k1_t76_loop v1310 v1312).trips) (k1_t77 : Fin (k1_t77_loop v1310 v1312 k1_t76).trips), ∀ a, (k1_off1040 v1310 v1312 k1_t76 k1_t77) a + S1x16.size a ≤ S72x256.size a := fun i v1310 v1312 k1_hw8 k1_t76 k1_t77 => k1_hw8.2.2.1.2.2.2.2.2.2.2.2.2.2.2.2.2.2.2.2.2.2.2.2.2.2.1 k1_t76 k1_t77
theorem k1_off1041_inb : ∀ (i : grid1.Coords) (v1310 : BitVec 32) (v1312 : BitVec 32) (k1_hw8 : k1_chk8 i v1310 v1312) (k1_t76 : Fin (k1_t76_loop v1310 v1312).trips) (k1_t77 : Fin (k1_t77_loop v1310 v1312 k1_t76).trips), ∀ a, (k1_off1041 v1310 v1312 k1_t76 k1_t77) a + S1x16.size a ≤ S72x256.size a := fun i v1310 v1312 k1_hw8 k1_t76 k1_t77 => k1_hw8.2.2.1.2.2.2.2.2.2.2.2.2.2.2.2.2.2.2.2.2.2.2.2.2.2.2.1 k1_t76 k1_t77
theorem k1_off1042_inb : ∀ (i : grid1.Coords) (v1310 : BitVec 32) (v1312 : BitVec 32) (k1_hw8 : k1_chk8 i v1310 v1312) (k1_t76 : Fin (k1_t76_loop v1310 v1312).trips) (k1_t77 : Fin (k1_t77_loop v1310 v1312 k1_t76).trips), ∀ a, (k1_off1042 v1310 v1312 k1_t76 k1_t77) a + S1x16.size a ≤ S72x256.size a := fun i v1310 v1312 k1_hw8 k1_t76 k1_t77 => k1_hw8.2.2.1.2.2.2.2.2.2.2.2.2.2.2.2.2.2.2.2.2.2.2.2.2.2.2.2.1 k1_t76 k1_t77
theorem k1_off1043_inb : ∀ (i : grid1.Coords) (v1310 : BitVec 32) (v1312 : BitVec 32) (k1_hw8 : k1_chk8 i v1310 v1312) (k1_t76 : Fin (k1_t76_loop v1310 v1312).trips) (k1_t77 : Fin (k1_t77_loop v1310 v1312 k1_t76).trips), ∀ a, (k1_off1043 v1310 v1312 k1_t76 k1_t77) a + S1x16.size a ≤ S72x256.size a := fun i v1310 v1312 k1_hw8 k1_t76 k1_t77 => k1_hw8.2.2.1.2.2.2.2.2.2.2.2.2.2.2.2.2.2.2.2.2.2.2.2.2.2.2.2.2.1 k1_t76 k1_t77
theorem k1_off1044_inb : ∀ (i : grid1.Coords) (v1310 : BitVec 32) (v1312 : BitVec 32) (k1_hw8 : k1_chk8 i v1310 v1312) (k1_t76 : Fin (k1_t76_loop v1310 v1312).trips) (k1_t77 : Fin (k1_t77_loop v1310 v1312 k1_t76).trips), ∀ a, (k1_off1044 v1310 v1312 k1_t76 k1_t77) a + S1x16.size a ≤ S72x256.size a := fun i v1310 v1312 k1_hw8 k1_t76 k1_t77 => k1_hw8.2.2.1.2.2.2.2.2.2.2.2.2.2.2.2.2.2.2.2.2.2.2.2.2.2.2.2.2.2.1 k1_t76 k1_t77
theorem k1_off1045_inb : ∀ (i : grid1.Coords) (v1310 : BitVec 32) (v1312 : BitVec 32) (k1_hw8 : k1_chk8 i v1310 v1312) (k1_t76 : Fin (k1_t76_loop v1310 v1312).trips) (k1_t77 : Fin (k1_t77_loop v1310 v1312 k1_t76).trips), ∀ a, (k1_off1045 v1310 v1312 k1_t76 k1_t77) a + S1x16.size a ≤ S72x256.size a := fun i v1310 v1312 k1_hw8 k1_t76 k1_t77 => k1_hw8.2.2.1.2.2.2.2.2.2.2.2.2.2.2.2.2.2.2.2.2.2.2.2.2.2.2.2.2.2.2.1 k1_t76 k1_t77
theorem k1_off1046_inb : ∀ (i : grid1.Coords) (v1310 : BitVec 32) (v1312 : BitVec 32) (k1_hw8 : k1_chk8 i v1310 v1312) (k1_t76 : Fin (k1_t76_loop v1310 v1312).trips) (k1_t77 : Fin (k1_t77_loop v1310 v1312 k1_t76).trips), ∀ a, (k1_off1046 v1310 v1312 k1_t76 k1_t77) a + S1x16.size a ≤ S72x256.size a := fun i v1310 v1312 k1_hw8 k1_t76 k1_t77 => k1_hw8.2.2.1.2.2.2.2.2.2.2.2.2.2.2.2.2.2.2.2.2.2.2.2.2.2.2.2.2.2.2.2.1 k1_t76 k1_t77
theorem k1_off1047_inb : ∀ (i : grid1.Coords) (v1310 : BitVec 32) (v1312 : BitVec 32) (k1_hw8 : k1_chk8 i v1310 v1312) (k1_t76 : Fin (k1_t76_loop v1310 v1312).trips) (k1_t77 : Fin (k1_t77_loop v1310 v1312 k1_t76).trips), ∀ a, (k1_off1047 v1310 v1312 k1_t76 k1_t77) a + S1x16.size a ≤ S72x256.size a := fun i v1310 v1312 k1_hw8 k1_t76 k1_t77 => k1_hw8.2.2.1.2.2.2.2.2.2.2.2.2.2.2.2.2.2.2.2.2.2.2.2.2.2.2.2.2.2.2.2.2.1 k1_t76 k1_t77
theorem k1_t78_ok : ∀ (i : grid1.Coords) (v1310 : BitVec 32) (v1312 : BitVec 32) (k1_hw8 : k1_chk8 i v1310 v1312) (k1_t76 : Fin (k1_t76_loop v1310 v1312).trips), (k1_t78_loop v1310 v1312 k1_t76).OK := fun i v1310 v1312 k1_hw8 k1_t76 => k1_hw8.2.2.1.2.2.2.2.2.2.2.2.2.2.2.2.2.2.2.2.2.2.2.2.2.2.2.2.2.2.2.2.2.2.1 k1_t76
theorem k1_off1048_inb : ∀ (i : grid1.Coords) (v1310 : BitVec 32) (v1312 : BitVec 32) (k1_hw8 : k1_chk8 i v1310 v1312) (k1_t76 : Fin (k1_t76_loop v1310 v1312).trips) (k1_t78 : Fin (k1_t78_loop v1310 v1312 k1_t76).trips), ∀ a, (k1_off1048 v1310 v1312 k1_t76 k1_t78) a + S1x16.size a ≤ S72x256.size a := fun i v1310 v1312 k1_hw8 k1_t76 k1_t78 => k1_hw8.2.2.1.2.2.2.2.2.2.2.2.2.2.2.2.2.2.2.2.2.2.2.2.2.2.2.2.2.2.2.2.2.2.2 k1_t76 k1_t78
theorem k1_off1049_inb : ∀ (i : grid1.Coords) (v1310 : BitVec 32) (v1312 : BitVec 32) (k1_hw8 : k1_chk8 i v1310 v1312) (k1_t76 : Fin (k1_t76_loop v1310 v1312).trips) (k1_t78 : Fin (k1_t78_loop v1310 v1312 k1_t76).trips), ∀ a, (k1_off1049 v1310 v1312 k1_t76 k1_t78) a + S1x16.size a ≤ S72x256.size a := fun i v1310 v1312 k1_hw8 k1_t76 k1_t78 => k1_hw8.2.2.2.1.1 k1_t76 k1_t78
theorem k1_off1050_inb : ∀ (i : grid1.Coords) (v1310 : BitVec 32) (v1312 : BitVec 32) (k1_hw8 : k1_chk8 i v1310 v1312) (k1_t76 : Fin (k1_t76_loop v1310 v1312).trips) (k1_t78 : Fin (k1_t78_loop v1310 v1312 k1_t76).trips), ∀ a, (k1_off1050 v1310 v1312 k1_t76 k1_t78) a + S1x16.size a ≤ S72x256.size a := fun i v1310 v1312 k1_hw8 k1_t76 k1_t78 => k1_hw8.2.2.2.1.2.1 k1_t76 k1_t78
theorem k1_off1051_inb : ∀ (i : grid1.Coords) (v1310 : BitVec 32) (v1312 : BitVec 32) (k1_hw8 : k1_chk8 i v1310 v1312) (k1_t76 : Fin (k1_t76_loop v1310 v1312).trips) (k1_t78 : Fin (k1_t78_loop v1310 v1312 k1_t76).trips), ∀ a, (k1_off1051 v1310 v1312 k1_t76 k1_t78) a + S1x16.size a ≤ S72x256.size a := fun i v1310 v1312 k1_hw8 k1_t76 k1_t78 => k1_hw8.2.2.2.1.2.2.1 k1_t76 k1_t78
theorem k1_off1052_inb : ∀ (i : grid1.Coords) (v1310 : BitVec 32) (v1312 : BitVec 32) (k1_hw8 : k1_chk8 i v1310 v1312) (k1_t76 : Fin (k1_t76_loop v1310 v1312).trips) (k1_t78 : Fin (k1_t78_loop v1310 v1312 k1_t76).trips), ∀ a, (k1_off1052 v1310 v1312 k1_t76 k1_t78) a + S1x16.size a ≤ S72x256.size a := fun i v1310 v1312 k1_hw8 k1_t76 k1_t78 => k1_hw8.2.2.2.1.2.2.2.1 k1_t76 k1_t78
theorem k1_off1053_inb : ∀ (i : grid1.Coords) (v1310 : BitVec 32) (v1312 : BitVec 32) (k1_hw8 : k1_chk8 i v1310 v1312) (k1_t76 : Fin (k1_t76_loop v1310 v1312).trips) (k1_t78 : Fin (k1_t78_loop v1310 v1312 k1_t76).trips), ∀ a, (k1_off1053 v1310 v1312 k1_t76 k1_t78) a + S1x16.size a ≤ S72x256.size a := fun i v1310 v1312 k1_hw8 k1_t76 k1_t78 => k1_hw8.2.2.2.1.2.2.2.2.1 k1_t76 k1_t78
theorem k1_off1054_inb : ∀ (i : grid1.Coords) (v1310 : BitVec 32) (v1312 : BitVec 32) (k1_hw8 : k1_chk8 i v1310 v1312) (k1_t76 : Fin (k1_t76_loop v1310 v1312).trips) (k1_t78 : Fin (k1_t78_loop v1310 v1312 k1_t76).trips), ∀ a, (k1_off1054 v1310 v1312 k1_t76 k1_t78) a + S1x16.size a ≤ S72x256.size a := fun i v1310 v1312 k1_hw8 k1_t76 k1_t78 => k1_hw8.2.2.2.1.2.2.2.2.2.1 k1_t76 k1_t78
theorem k1_off1055_inb : ∀ (i : grid1.Coords) (v1310 : BitVec 32) (v1312 : BitVec 32) (k1_hw8 : k1_chk8 i v1310 v1312) (k1_t76 : Fin (k1_t76_loop v1310 v1312).trips) (k1_t78 : Fin (k1_t78_loop v1310 v1312 k1_t76).trips), ∀ a, (k1_off1055 v1310 v1312 k1_t76 k1_t78) a + S1x16.size a ≤ S72x256.size a := fun i v1310 v1312 k1_hw8 k1_t76 k1_t78 => k1_hw8.2.2.2.1.2.2.2.2.2.2.1 k1_t76 k1_t78
theorem k1_off1056_inb : ∀ (i : grid1.Coords) (v1310 : BitVec 32) (v1312 : BitVec 32) (k1_hw8 : k1_chk8 i v1310 v1312) (k1_t76 : Fin (k1_t76_loop v1310 v1312).trips) (k1_t78 : Fin (k1_t78_loop v1310 v1312 k1_t76).trips), ∀ a, (k1_off1056 v1310 v1312 k1_t76 k1_t78) a + S1x16.size a ≤ S72x256.size a := fun i v1310 v1312 k1_hw8 k1_t76 k1_t78 => k1_hw8.2.2.2.1.2.2.2.2.2.2.2.1 k1_t76 k1_t78
theorem k1_off1057_inb : ∀ (i : grid1.Coords) (v1310 : BitVec 32) (v1312 : BitVec 32) (k1_hw8 : k1_chk8 i v1310 v1312) (k1_t76 : Fin (k1_t76_loop v1310 v1312).trips) (k1_t78 : Fin (k1_t78_loop v1310 v1312 k1_t76).trips), ∀ a, (k1_off1057 v1310 v1312 k1_t76 k1_t78) a + S1x16.size a ≤ S72x256.size a := fun i v1310 v1312 k1_hw8 k1_t76 k1_t78 => k1_hw8.2.2.2.1.2.2.2.2.2.2.2.2.1 k1_t76 k1_t78
theorem k1_off1058_inb : ∀ (i : grid1.Coords) (v1310 : BitVec 32) (v1312 : BitVec 32) (k1_hw8 : k1_chk8 i v1310 v1312) (k1_t76 : Fin (k1_t76_loop v1310 v1312).trips) (k1_t78 : Fin (k1_t78_loop v1310 v1312 k1_t76).trips), ∀ a, (k1_off1058 v1310 v1312 k1_t76 k1_t78) a + S1x16.size a ≤ S72x256.size a := fun i v1310 v1312 k1_hw8 k1_t76 k1_t78 => k1_hw8.2.2.2.1.2.2.2.2.2.2.2.2.2.1 k1_t76 k1_t78
theorem k1_off1059_inb : ∀ (i : grid1.Coords) (v1310 : BitVec 32) (v1312 : BitVec 32) (k1_hw8 : k1_chk8 i v1310 v1312) (k1_t76 : Fin (k1_t76_loop v1310 v1312).trips) (k1_t78 : Fin (k1_t78_loop v1310 v1312 k1_t76).trips), ∀ a, (k1_off1059 v1310 v1312 k1_t76 k1_t78) a + S1x16.size a ≤ S72x256.size a := fun i v1310 v1312 k1_hw8 k1_t76 k1_t78 => k1_hw8.2.2.2.1.2.2.2.2.2.2.2.2.2.2.1 k1_t76 k1_t78
theorem k1_off1060_inb : ∀ (i : grid1.Coords) (v1310 : BitVec 32) (v1312 : BitVec 32) (k1_hw8 : k1_chk8 i v1310 v1312) (k1_t76 : Fin (k1_t76_loop v1310 v1312).trips) (k1_t78 : Fin (k1_t78_loop v1310 v1312 k1_t76).trips), ∀ a, (k1_off1060 v1310 v1312 k1_t76 k1_t78) a + S1x16.size a ≤ S72x256.size a := fun i v1310 v1312 k1_hw8 k1_t76 k1_t78 => k1_hw8.2.2.2.1.2.2.2.2.2.2.2.2.2.2.2.1 k1_t76 k1_t78
theorem k1_off1061_inb : ∀ (i : grid1.Coords) (v1310 : BitVec 32) (v1312 : BitVec 32) (k1_hw8 : k1_chk8 i v1310 v1312) (k1_t76 : Fin (k1_t76_loop v1310 v1312).trips) (k1_t78 : Fin (k1_t78_loop v1310 v1312 k1_t76).trips), ∀ a, (k1_off1061 v1310 v1312 k1_t76 k1_t78) a + S1x16.size a ≤ S72x256.size a := fun i v1310 v1312 k1_hw8 k1_t76 k1_t78 => k1_hw8.2.2.2.1.2.2.2.2.2.2.2.2.2.2.2.2.1 k1_t76 k1_t78
theorem k1_off1062_inb : ∀ (i : grid1.Coords) (v1310 : BitVec 32) (v1312 : BitVec 32) (k1_hw8 : k1_chk8 i v1310 v1312) (k1_t76 : Fin (k1_t76_loop v1310 v1312).trips) (k1_t78 : Fin (k1_t78_loop v1310 v1312 k1_t76).trips), ∀ a, (k1_off1062 v1310 v1312 k1_t76 k1_t78) a + S1x16.size a ≤ S72x256.size a := fun i v1310 v1312 k1_hw8 k1_t76 k1_t78 => k1_hw8.2.2.2.1.2.2.2.2.2.2.2.2.2.2.2.2.2.1 k1_t76 k1_t78
theorem k1_off1063_inb : ∀ (i : grid1.Coords) (v1310 : BitVec 32) (v1312 : BitVec 32) (k1_hw8 : k1_chk8 i v1310 v1312) (k1_t76 : Fin (k1_t76_loop v1310 v1312).trips) (k1_t78 : Fin (k1_t78_loop v1310 v1312 k1_t76).trips), ∀ a, (k1_off1063 v1310 v1312 k1_t76 k1_t78) a + S1x16.size a ≤ S72x256.size a := fun i v1310 v1312 k1_hw8 k1_t76 k1_t78 => k1_hw8.2.2.2.1.2.2.2.2.2.2.2.2.2.2.2.2.2.2.1 k1_t76 k1_t78
theorem k1_off1064_inb : ∀ (i : grid1.Coords) (v1310 : BitVec 32) (v1312 : BitVec 32) (k1_hw8 : k1_chk8 i v1310 v1312) (k1_t76 : Fin (k1_t76_loop v1310 v1312).trips), ∀ (k1_h71 : k1_cond71 v1310 v1312 k1_t76 = 1#1), ∀ a, (k1_off1064 i v1310 v1312 k1_t76) a + S72x256.size a ≤ S100000x512.size a := fun i v1310 v1312 k1_hw8 k1_t76 k1_h71 => k1_hw8.2.2.2.1.2.2.2.2.2.2.2.2.2.2.2.2.2.2.2.1 k1_t76 k1_h71
theorem k1_off1065_inb : ∀ (i : grid1.Coords) (v1310 : BitVec 32) (v1312 : BitVec 32) (k1_hw8 : k1_chk8 i v1310 v1312) (k1_t76 : Fin (k1_t76_loop v1310 v1312).trips), ∀ (k1_h71 : k1_cond71 v1310 v1312 k1_t76 = 1#1), ∀ (k1_h72 : k1_cond72 v1310 v1312 k1_t76 = 1#1), ∀ a, (k1_off1065 i v1310 v1312 k1_t76) a + S72x256.size a ≤ S100000x512.size a := fun i v1310 v1312 k1_hw8 k1_t76 k1_h71 k1_h72 => k1_hw8.2.2.2.1.2.2.2.2.2.2.2.2.2.2.2.2.2.2.2.2.1 k1_t76 k1_h71 k1_h72
theorem k1_t79_ok : ∀ (i : grid1.Coords) (v1310 : BitVec 32) (v1312 : BitVec 32) (k1_hw8 : k1_chk8 i v1310 v1312) (k1_t76 : Fin (k1_t76_loop v1310 v1312).trips), (k1_t79_loop v1310 v1312 k1_t76).OK := fun i v1310 v1312 k1_hw8 k1_t76 => k1_hw8.2.2.2.1.2.2.2.2.2.2.2.2.2.2.2.2.2.2.2.2.2.1 k1_t76
theorem k1_off1066_inb : ∀ (i : grid1.Coords) (v1310 : BitVec 32) (v1312 : BitVec 32) (k1_hw8 : k1_chk8 i v1310 v1312) (k1_t76 : Fin (k1_t76_loop v1310 v1312).trips) (k1_t79 : Fin (k1_t79_loop v1310 v1312 k1_t76).trips), ∀ a, (k1_off1066 v1310 v1312 k1_t76 k1_t79) a + S1x16.size a ≤ S72x256.size a := fun i v1310 v1312 k1_hw8 k1_t76 k1_t79 => k1_hw8.2.2.2.1.2.2.2.2.2.2.2.2.2.2.2.2.2.2.2.2.2.2.1 k1_t76 k1_t79
theorem k1_off1067_inb : ∀ (i : grid1.Coords) (v1310 : BitVec 32) (v1312 : BitVec 32) (k1_hw8 : k1_chk8 i v1310 v1312) (k1_t76 : Fin (k1_t76_loop v1310 v1312).trips) (k1_t79 : Fin (k1_t79_loop v1310 v1312 k1_t76).trips), ∀ a, (k1_off1067 v1310 v1312 k1_t76 k1_t79) a + S1x16.size a ≤ S72x256.size a := fun i v1310 v1312 k1_hw8 k1_t76 k1_t79 => k1_hw8.2.2.2.1.2.2.2.2.2.2.2.2.2.2.2.2.2.2.2.2.2.2.2.1 k1_t76 k1_t79
theorem k1_off1068_inb : ∀ (i : grid1.Coords) (v1310 : BitVec 32) (v1312 : BitVec 32) (k1_hw8 : k1_chk8 i v1310 v1312) (k1_t76 : Fin (k1_t76_loop v1310 v1312).trips) (k1_t79 : Fin (k1_t79_loop v1310 v1312 k1_t76).trips), ∀ a, (k1_off1068 v1310 v1312 k1_t76 k1_t79) a + S1x16.size a ≤ S72x256.size a := fun i v1310 v1312 k1_hw8 k1_t76 k1_t79 => k1_hw8.2.2.2.1.2.2.2.2.2.2.2.2.2.2.2.2.2.2.2.2.2.2.2.2.1 k1_t76 k1_t79
theorem k1_off1069_inb : ∀ (i : grid1.Coords) (v1310 : BitVec 32) (v1312 : BitVec 32) (k1_hw8 : k1_chk8 i v1310 v1312) (k1_t76 : Fin (k1_t76_loop v1310 v1312).trips) (k1_t79 : Fin (k1_t79_loop v1310 v1312 k1_t76).trips), ∀ a, (k1_off1069 v1310 v1312 k1_t76 k1_t79) a + S1x16.size a ≤ S72x256.size a := fun i v1310 v1312 k1_hw8 k1_t76 k1_t79 => k1_hw8.2.2.2.1.2.2.2.2.2.2.2.2.2.2.2.2.2.2.2.2.2.2.2.2.2.1 k1_t76 k1_t79
theorem k1_off1070_inb : ∀ (i : grid1.Coords) (v1310 : BitVec 32) (v1312 : BitVec 32) (k1_hw8 : k1_chk8 i v1310 v1312) (k1_t76 : Fin (k1_t76_loop v1310 v1312).trips) (k1_t79 : Fin (k1_t79_loop v1310 v1312 k1_t76).trips), ∀ a, (k1_off1070 v1310 v1312 k1_t76 k1_t79) a + S1x16.size a ≤ S72x256.size a := fun i v1310 v1312 k1_hw8 k1_t76 k1_t79 => k1_hw8.2.2.2.1.2.2.2.2.2.2.2.2.2.2.2.2.2.2.2.2.2.2.2.2.2.2.1 k1_t76 k1_t79
theorem k1_off1071_inb : ∀ (i : grid1.Coords) (v1310 : BitVec 32) (v1312 : BitVec 32) (k1_hw8 : k1_chk8 i v1310 v1312) (k1_t76 : Fin (k1_t76_loop v1310 v1312).trips) (k1_t79 : Fin (k1_t79_loop v1310 v1312 k1_t76).trips), ∀ a, (k1_off1071 v1310 v1312 k1_t76 k1_t79) a + S1x16.size a ≤ S72x256.size a := fun i v1310 v1312 k1_hw8 k1_t76 k1_t79 => k1_hw8.2.2.2.1.2.2.2.2.2.2.2.2.2.2.2.2.2.2.2.2.2.2.2.2.2.2.2.1 k1_t76 k1_t79
theorem k1_off1072_inb : ∀ (i : grid1.Coords) (v1310 : BitVec 32) (v1312 : BitVec 32) (k1_hw8 : k1_chk8 i v1310 v1312) (k1_t76 : Fin (k1_t76_loop v1310 v1312).trips) (k1_t79 : Fin (k1_t79_loop v1310 v1312 k1_t76).trips), ∀ a, (k1_off1072 v1310 v1312 k1_t76 k1_t79) a + S1x16.size a ≤ S72x256.size a := fun i v1310 v1312 k1_hw8 k1_t76 k1_t79 => k1_hw8.2.2.2.1.2.2.2.2.2.2.2.2.2.2.2.2.2.2.2.2.2.2.2.2.2.2.2.2.1 k1_t76 k1_t79
theorem k1_off1073_inb : ∀ (i : grid1.Coords) (v1310 : BitVec 32) (v1312 : BitVec 32) (k1_hw8 : k1_chk8 i v1310 v1312) (k1_t76 : Fin (k1_t76_loop v1310 v1312).trips) (k1_t79 : Fin (k1_t79_loop v1310 v1312 k1_t76).trips), ∀ a, (k1_off1073 v1310 v1312 k1_t76 k1_t79) a + S1x16.size a ≤ S72x256.size a := fun i v1310 v1312 k1_hw8 k1_t76 k1_t79 => k1_hw8.2.2.2.1.2.2.2.2.2.2.2.2.2.2.2.2.2.2.2.2.2.2.2.2.2.2.2.2.2.1 k1_t76 k1_t79
theorem k1_off1074_inb : ∀ (i : grid1.Coords) (v1310 : BitVec 32) (v1312 : BitVec 32) (k1_hw8 : k1_chk8 i v1310 v1312) (k1_t76 : Fin (k1_t76_loop v1310 v1312).trips) (k1_t79 : Fin (k1_t79_loop v1310 v1312 k1_t76).trips), ∀ a, (k1_off1074 v1310 v1312 k1_t76 k1_t79) a + S1x16.size a ≤ S72x256.size a := fun i v1310 v1312 k1_hw8 k1_t76 k1_t79 => k1_hw8.2.2.2.1.2.2.2.2.2.2.2.2.2.2.2.2.2.2.2.2.2.2.2.2.2.2.2.2.2.2.1 k1_t76 k1_t79
theorem k1_off1075_inb : ∀ (i : grid1.Coords) (v1310 : BitVec 32) (v1312 : BitVec 32) (k1_hw8 : k1_chk8 i v1310 v1312) (k1_t76 : Fin (k1_t76_loop v1310 v1312).trips) (k1_t79 : Fin (k1_t79_loop v1310 v1312 k1_t76).trips), ∀ a, (k1_off1075 v1310 v1312 k1_t76 k1_t79) a + S1x16.size a ≤ S72x256.size a := fun i v1310 v1312 k1_hw8 k1_t76 k1_t79 => k1_hw8.2.2.2.1.2.2.2.2.2.2.2.2.2.2.2.2.2.2.2.2.2.2.2.2.2.2.2.2.2.2.2.1 k1_t76 k1_t79
theorem k1_off1076_inb : ∀ (i : grid1.Coords) (v1310 : BitVec 32) (v1312 : BitVec 32) (k1_hw8 : k1_chk8 i v1310 v1312) (k1_t76 : Fin (k1_t76_loop v1310 v1312).trips) (k1_t79 : Fin (k1_t79_loop v1310 v1312 k1_t76).trips), ∀ a, (k1_off1076 v1310 v1312 k1_t76 k1_t79) a + S1x16.size a ≤ S72x256.size a := fun i v1310 v1312 k1_hw8 k1_t76 k1_t79 => k1_hw8.2.2.2.1.2.2.2.2.2.2.2.2.2.2.2.2.2.2.2.2.2.2.2.2.2.2.2.2.2.2.2.2.1 k1_t76 k1_t79
theorem k1_off1077_inb : ∀ (i : grid1.Coords) (v1310 : BitVec 32) (v1312 : BitVec 32) (k1_hw8 : k1_chk8 i v1310 v1312) (k1_t76 : Fin (k1_t76_loop v1310 v1312).trips) (k1_t79 : Fin (k1_t79_loop v1310 v1312 k1_t76).trips), ∀ a, (k1_off1077 v1310 v1312 k1_t76 k1_t79) a + S1x16.size a ≤ S72x256.size a := fun i v1310 v1312 k1_hw8 k1_t76 k1_t79 => k1_hw8.2.2.2.1.2.2.2.2.2.2.2.2.2.2.2.2.2.2.2.2.2.2.2.2.2.2.2.2.2.2.2.2.2.1 k1_t76 k1_t79
theorem k1_off1078_inb : ∀ (i : grid1.Coords) (v1310 : BitVec 32) (v1312 : BitVec 32) (k1_hw8 : k1_chk8 i v1310 v1312) (k1_t76 : Fin (k1_t76_loop v1310 v1312).trips) (k1_t79 : Fin (k1_t79_loop v1310 v1312 k1_t76).trips), ∀ a, (k1_off1078 v1310 v1312 k1_t76 k1_t79) a + S1x16.size a ≤ S72x256.size a := fun i v1310 v1312 k1_hw8 k1_t76 k1_t79 => k1_hw8.2.2.2.1.2.2.2.2.2.2.2.2.2.2.2.2.2.2.2.2.2.2.2.2.2.2.2.2.2.2.2.2.2.2.1 k1_t76 k1_t79
theorem k1_off1079_inb : ∀ (i : grid1.Coords) (v1310 : BitVec 32) (v1312 : BitVec 32) (k1_hw8 : k1_chk8 i v1310 v1312) (k1_t76 : Fin (k1_t76_loop v1310 v1312).trips) (k1_t79 : Fin (k1_t79_loop v1310 v1312 k1_t76).trips), ∀ a, (k1_off1079 v1310 v1312 k1_t76 k1_t79) a + S1x16.size a ≤ S72x256.size a := fun i v1310 v1312 k1_hw8 k1_t76 k1_t79 => k1_hw8.2.2.2.1.2.2.2.2.2.2.2.2.2.2.2.2.2.2.2.2.2.2.2.2.2.2.2.2.2.2.2.2.2.2.2 k1_t76 k1_t79
theorem k1_off1080_inb : ∀ (i : grid1.Coords) (v1310 : BitVec 32) (v1312 : BitVec 32) (k1_hw8 : k1_chk8 i v1310 v1312) (k1_t76 : Fin (k1_t76_loop v1310 v1312).trips) (k1_t79 : Fin (k1_t79_loop v1310 v1312 k1_t76).trips), ∀ a, (k1_off1080 v1310 v1312 k1_t76 k1_t79) a + S1x16.size a ≤ S72x256.size a := fun i v1310 v1312 k1_hw8 k1_t76 k1_t79 => k1_hw8.2.2.2.2.1 k1_t76 k1_t79
theorem k1_off1081_inb : ∀ (i : grid1.Coords) (v1310 : BitVec 32) (v1312 : BitVec 32) (k1_hw8 : k1_chk8 i v1310 v1312) (k1_t76 : Fin (k1_t76_loop v1310 v1312).trips) (k1_t79 : Fin (k1_t79_loop v1310 v1312 k1_t76).trips), ∀ a, (k1_off1081 v1310 v1312 k1_t76 k1_t79) a + S1x16.size a ≤ S72x256.size a := fun i v1310 v1312 k1_hw8 k1_t76 k1_t79 => k1_hw8.2.2.2.2.2.1 k1_t76 k1_t79
theorem k1_t80_ok : ∀ (i : grid1.Coords) (v1310 : BitVec 32) (v1312 : BitVec 32) (k1_hw8 : k1_chk8 i v1310 v1312) (k1_t76 : Fin (k1_t76_loop v1310 v1312).trips), (k1_t80_loop v1310 v1312 k1_t76).OK := fun i v1310 v1312 k1_hw8 k1_t76 => k1_hw8.2.2.2.2.2.2.1 k1_t76
theorem k1_off1082_inb : ∀ (i : grid1.Coords) (v1310 : BitVec 32) (v1312 : BitVec 32) (k1_hw8 : k1_chk8 i v1310 v1312) (k1_t76 : Fin (k1_t76_loop v1310 v1312).trips) (k1_t80 : Fin (k1_t80_loop v1310 v1312 k1_t76).trips), ∀ a, (k1_off1082 v1310 v1312 k1_t76 k1_t80) a + S1x16.size a ≤ S72x256.size a := fun i v1310 v1312 k1_hw8 k1_t76 k1_t80 => k1_hw8.2.2.2.2.2.2.2.1 k1_t76 k1_t80
theorem k1_off1083_inb : ∀ (i : grid1.Coords) (v1310 : BitVec 32) (v1312 : BitVec 32) (k1_hw8 : k1_chk8 i v1310 v1312) (k1_t76 : Fin (k1_t76_loop v1310 v1312).trips) (k1_t80 : Fin (k1_t80_loop v1310 v1312 k1_t76).trips), ∀ a, (k1_off1083 v1310 v1312 k1_t76 k1_t80) a + S1x16.size a ≤ S72x256.size a := fun i v1310 v1312 k1_hw8 k1_t76 k1_t80 => k1_hw8.2.2.2.2.2.2.2.2.1 k1_t76 k1_t80
theorem k1_off1084_inb : ∀ (i : grid1.Coords) (v1310 : BitVec 32) (v1312 : BitVec 32) (k1_hw8 : k1_chk8 i v1310 v1312) (k1_t76 : Fin (k1_t76_loop v1310 v1312).trips) (k1_t80 : Fin (k1_t80_loop v1310 v1312 k1_t76).trips), ∀ a, (k1_off1084 v1310 v1312 k1_t76 k1_t80) a + S1x16.size a ≤ S72x256.size a := fun i v1310 v1312 k1_hw8 k1_t76 k1_t80 => k1_hw8.2.2.2.2.2.2.2.2.2.1 k1_t76 k1_t80
theorem k1_off1085_inb : ∀ (i : grid1.Coords) (v1310 : BitVec 32) (v1312 : BitVec 32) (k1_hw8 : k1_chk8 i v1310 v1312) (k1_t76 : Fin (k1_t76_loop v1310 v1312).trips) (k1_t80 : Fin (k1_t80_loop v1310 v1312 k1_t76).trips), ∀ a, (k1_off1085 v1310 v1312 k1_t76 k1_t80) a + S1x16.size a ≤ S72x256.size a := fun i v1310 v1312 k1_hw8 k1_t76 k1_t80 => k1_hw8.2.2.2.2.2.2.2.2.2.2.1 k1_t76 k1_t80
theorem k1_off1086_inb : ∀ (i : grid1.Coords) (v1310 : BitVec 32) (v1312 : BitVec 32) (k1_hw8 : k1_chk8 i v1310 v1312) (k1_t76 : Fin (k1_t76_loop v1310 v1312).trips) (k1_t80 : Fin (k1_t80_loop v1310 v1312 k1_t76).trips), ∀ a, (k1_off1086 v1310 v1312 k1_t76 k1_t80) a + S1x16.size a ≤ S72x256.size a := fun i v1310 v1312 k1_hw8 k1_t76 k1_t80 => k1_hw8.2.2.2.2.2.2.2.2.2.2.2.1 k1_t76 k1_t80
theorem k1_off1087_inb : ∀ (i : grid1.Coords) (v1310 : BitVec 32) (v1312 : BitVec 32) (k1_hw8 : k1_chk8 i v1310 v1312) (k1_t76 : Fin (k1_t76_loop v1310 v1312).trips) (k1_t80 : Fin (k1_t80_loop v1310 v1312 k1_t76).trips), ∀ a, (k1_off1087 v1310 v1312 k1_t76 k1_t80) a + S1x16.size a ≤ S72x256.size a := fun i v1310 v1312 k1_hw8 k1_t76 k1_t80 => k1_hw8.2.2.2.2.2.2.2.2.2.2.2.2.1 k1_t76 k1_t80
theorem k1_off1088_inb : ∀ (i : grid1.Coords) (v1310 : BitVec 32) (v1312 : BitVec 32) (k1_hw8 : k1_chk8 i v1310 v1312) (k1_t76 : Fin (k1_t76_loop v1310 v1312).trips) (k1_t80 : Fin (k1_t80_loop v1310 v1312 k1_t76).trips), ∀ a, (k1_off1088 v1310 v1312 k1_t76 k1_t80) a + S1x16.size a ≤ S72x256.size a := fun i v1310 v1312 k1_hw8 k1_t76 k1_t80 => k1_hw8.2.2.2.2.2.2.2.2.2.2.2.2.2.1 k1_t76 k1_t80
theorem k1_off1089_inb : ∀ (i : grid1.Coords) (v1310 : BitVec 32) (v1312 : BitVec 32) (k1_hw8 : k1_chk8 i v1310 v1312) (k1_t76 : Fin (k1_t76_loop v1310 v1312).trips) (k1_t80 : Fin (k1_t80_loop v1310 v1312 k1_t76).trips), ∀ a, (k1_off1089 v1310 v1312 k1_t76 k1_t80) a + S1x16.size a ≤ S72x256.size a := fun i v1310 v1312 k1_hw8 k1_t76 k1_t80 => k1_hw8.2.2.2.2.2.2.2.2.2.2.2.2.2.2.1 k1_t76 k1_t80
theorem k1_off1090_inb : ∀ (i : grid1.Coords) (v1310 : BitVec 32) (v1312 : BitVec 32) (k1_hw8 : k1_chk8 i v1310 v1312) (k1_t76 : Fin (k1_t76_loop v1310 v1312).trips) (k1_t80 : Fin (k1_t80_loop v1310 v1312 k1_t76).trips), ∀ a, (k1_off1090 v1310 v1312 k1_t76 k1_t80) a + S1x16.size a ≤ S72x256.size a := fun i v1310 v1312 k1_hw8 k1_t76 k1_t80 => k1_hw8.2.2.2.2.2.2.2.2.2.2.2.2.2.2.2.1 k1_t76 k1_t80
theorem k1_off1091_inb : ∀ (i : grid1.Coords) (v1310 : BitVec 32) (v1312 : BitVec 32) (k1_hw8 : k1_chk8 i v1310 v1312) (k1_t76 : Fin (k1_t76_loop v1310 v1312).trips) (k1_t80 : Fin (k1_t80_loop v1310 v1312 k1_t76).trips), ∀ a, (k1_off1091 v1310 v1312 k1_t76 k1_t80) a + S1x16.size a ≤ S72x256.size a := fun i v1310 v1312 k1_hw8 k1_t76 k1_t80 => k1_hw8.2.2.2.2.2.2.2.2.2.2.2.2.2.2.2.2.1 k1_t76 k1_t80
theorem k1_off1092_inb : ∀ (i : grid1.Coords) (v1310 : BitVec 32) (v1312 : BitVec 32) (k1_hw8 : k1_chk8 i v1310 v1312) (k1_t76 : Fin (k1_t76_loop v1310 v1312).trips) (k1_t80 : Fin (k1_t80_loop v1310 v1312 k1_t76).trips), ∀ a, (k1_off1092 v1310 v1312 k1_t76 k1_t80) a + S1x16.size a ≤ S72x256.size a := fun i v1310 v1312 k1_hw8 k1_t76 k1_t80 => k1_hw8.2.2.2.2.2.2.2.2.2.2.2.2.2.2.2.2.2.1 k1_t76 k1_t80
theorem k1_off1093_inb : ∀ (i : grid1.Coords) (v1310 : BitVec 32) (v1312 : BitVec 32) (k1_hw8 : k1_chk8 i v1310 v1312) (k1_t76 : Fin (k1_t76_loop v1310 v1312).trips) (k1_t80 : Fin (k1_t80_loop v1310 v1312 k1_t76).trips), ∀ a, (k1_off1093 v1310 v1312 k1_t76 k1_t80) a + S1x16.size a ≤ S72x256.size a := fun i v1310 v1312 k1_hw8 k1_t76 k1_t80 => k1_hw8.2.2.2.2.2.2.2.2.2.2.2.2.2.2.2.2.2.2.1 k1_t76 k1_t80
theorem k1_off1094_inb : ∀ (i : grid1.Coords) (v1310 : BitVec 32) (v1312 : BitVec 32) (k1_hw8 : k1_chk8 i v1310 v1312) (k1_t76 : Fin (k1_t76_loop v1310 v1312).trips) (k1_t80 : Fin (k1_t80_loop v1310 v1312 k1_t76).trips), ∀ a, (k1_off1094 v1310 v1312 k1_t76 k1_t80) a + S1x16.size a ≤ S72x256.size a := fun i v1310 v1312 k1_hw8 k1_t76 k1_t80 => k1_hw8.2.2.2.2.2.2.2.2.2.2.2.2.2.2.2.2.2.2.2.1 k1_t76 k1_t80
theorem k1_off1095_inb : ∀ (i : grid1.Coords) (v1310 : BitVec 32) (v1312 : BitVec 32) (k1_hw8 : k1_chk8 i v1310 v1312) (k1_t76 : Fin (k1_t76_loop v1310 v1312).trips) (k1_t80 : Fin (k1_t80_loop v1310 v1312 k1_t76).trips), ∀ a, (k1_off1095 v1310 v1312 k1_t76 k1_t80) a + S1x16.size a ≤ S72x256.size a := fun i v1310 v1312 k1_hw8 k1_t76 k1_t80 => k1_hw8.2.2.2.2.2.2.2.2.2.2.2.2.2.2.2.2.2.2.2.2.1 k1_t76 k1_t80
theorem k1_off1096_inb : ∀ (i : grid1.Coords) (v1310 : BitVec 32) (v1312 : BitVec 32) (k1_hw8 : k1_chk8 i v1310 v1312) (k1_t76 : Fin (k1_t76_loop v1310 v1312).trips) (k1_t80 : Fin (k1_t80_loop v1310 v1312 k1_t76).trips), ∀ a, (k1_off1096 v1310 v1312 k1_t76 k1_t80) a + S1x16.size a ≤ S72x256.size a := fun i v1310 v1312 k1_hw8 k1_t76 k1_t80 => k1_hw8.2.2.2.2.2.2.2.2.2.2.2.2.2.2.2.2.2.2.2.2.2.1 k1_t76 k1_t80
theorem k1_off1097_inb : ∀ (i : grid1.Coords) (v1310 : BitVec 32) (v1312 : BitVec 32) (k1_hw8 : k1_chk8 i v1310 v1312) (k1_t76 : Fin (k1_t76_loop v1310 v1312).trips) (k1_t80 : Fin (k1_t80_loop v1310 v1312 k1_t76).trips), ∀ a, (k1_off1097 v1310 v1312 k1_t76 k1_t80) a + S1x16.size a ≤ S72x256.size a := fun i v1310 v1312 k1_hw8 k1_t76 k1_t80 => k1_hw8.2.2.2.2.2.2.2.2.2.2.2.2.2.2.2.2.2.2.2.2.2.2 k1_t76 k1_t80

def k1_off1098 (i : grid1.Coords) (v1492 : BitVec 32) : Fin 2 → Nat :=
  let c0_i32_1408 : BitVec 32 := 0#32
  let v2949 : BitVec 32 := Scalar.addi v1492 c0_i32_1408
  let c0_i32_1410 : BitVec 32 := 0#32
  let v2951 : BitVec 1 := Scalar.cmpi .sgt v2949 c0_i32_1410
  let v2952 : BitVec 32 := Scalar.extui v2951
  let c0_i32_1411 : BitVec 32 := 0#32
  let v2953 : BitVec 1 := Scalar.cmpi .slt v2949 c0_i32_1411
  let v2954 : BitVec 32 := Scalar.extui v2953
  let v2955 : BitVec 32 := Scalar.subi v2952 v2954
  let c8_i32_1409 : BitVec 32 := 8#32
  let c0_i32_1412 : BitVec 32 := 0#32
  let v2956 : BitVec 1 := Scalar.cmpi .sgt c8_i32_1409 c0_i32_1412
  let v2957 : BitVec 32 := Scalar.extui v2956
  let c0_i32_1413 : BitVec 32 := 0#32
  let v2958 : BitVec 1 := Scalar.cmpi .slt c8_i32_1409 c0_i32_1413
  let v2959 : BitVec 32 := Scalar.extui v2958
  let v2960 : BitVec 32 := Scalar.subi v2957 v2959
  let v2961 : BitVec 1 := Scalar.cmpi .ne v2955 v2960
  let v2962 : BitVec 32 := Scalar.remsi v2949 c8_i32_1409
  let c0_i32_1414 : BitVec 32 := 0#32
  let v2963 : BitVec 1 := Scalar.cmpi .ne v2962 c0_i32_1414
  let v2964 : BitVec 1 := Scalar.andi v2961 v2963
  let v2950 : BitVec 32 := Scalar.divsi v2949 c8_i32_1409
  let c1_i32_1415 : BitVec 32 := 1#32
  let v2965 : BitVec 32 := Scalar.subi v2950 c1_i32_1415
  let v2966 : BitVec 32 := Scalar.select v2964 v2965 v2950
  let c8_i32_1416 : BitVec 32 := 8#32
  let v2967 : BitVec 32 := Scalar.muli v2966 c8_i32_1416
  let c99928_i32 : BitVec 32 := 99928#32
  let v2968 : BitVec 32 := Scalar.minsi v2967 c99928_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v2968.toNat, v29.toNat]
def k1_cond73 (v1492 : BitVec 32) (v1494 : BitVec 32) : BitVec 1 :=
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c0_i32_713 : BitVec 32 := 0#32
  let v1517 : BitVec 1 := Scalar.cmpi .sgt v1516 c0_i32_713
  let v1518 : BitVec 32 := Scalar.extui v1517
  let c0_i32_714 : BitVec 32 := 0#32
  let v1519 : BitVec 1 := Scalar.cmpi .ne v1518 c0_i32_714
  v1519

@[reducible] def k1_t81_loop (v1492 : BitVec 32) (v1494 : BitVec 32) : Scf.Loop 32 :=
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_725 : BitVec 32 := 1#32
  ⟨c0_i32_723, v1542, c1_i32_725⟩
def k1_off1099 (i : grid1.Coords) (v1492 : BitVec 32) (v1494 : BitVec 32) (k1_t81 : Fin (k1_t81_loop v1492 v1494).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1446 : BitVec 32 := 64#32
  let v3026 : BitVec 32 := Scalar.muli v2949 c64_i32_1446
  let v3027 : BitVec 32 := Scalar.addi v1492 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond74 (v1492 : BitVec 32) (v1494 : BitVec 32) (k1_t81 : Fin (k1_t81_loop v1492 v1494).trips) : BitVec 1 :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let v2950 : BitVec 1 := Scalar.cmpi .slt v2949 v1516
  let v2951 : BitVec 32 := Scalar.extui v2950
  let c0_i32_1409 : BitVec 32 := 0#32
  let v2952 : BitVec 1 := Scalar.cmpi .ne v2951 c0_i32_1409
  v2952

def k1_off1100 (i : grid1.Coords) (v1492 : BitVec 32) (v1494 : BitVec 32) (k1_t81 : Fin (k1_t81_loop v1492 v1494).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v1492 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond75 (v1492 : BitVec 32) (v1494 : BitVec 32) (k1_t81 : Fin (k1_t81_loop v1492 v1494).trips) : BitVec 1 :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c1_i32_1456 : BitVec 32 := 1#32
  let v3049 : BitVec 32 := Scalar.addi v2949 c1_i32_1456
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let v3050 : BitVec 1 := Scalar.cmpi .slt v3049 v1516
  let v3051 : BitVec 32 := Scalar.extui v3050
  let c0_i32_1457 : BitVec 32 := 0#32
  let v3052 : BitVec 1 := Scalar.cmpi .ne v3051 c0_i32_1457
  v3052

@[reducible] def k1_t82_loop (v1492 : BitVec 32) (v1494 : BitVec 32) (k1_t81 : Fin (k1_t81_loop v1492 v1494).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off1101 (v1492 : BitVec 32) (v1494 : BitVec 32) (k1_t81 : Fin (k1_t81_loop v1492 v1494).trips) (k1_t82 : Fin (k1_t82_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t82
  let v3026 : BitVec 32 := Scalar.addi v2976 arg46
  let v3027 : Index := Scalar.indexCast v3026
  let c0_1446 : Index := 0#32
  ![v3027.toNat, 0]
def k1_off1102 (v1492 : BitVec 32) (v1494 : BitVec 32) (k1_t81 : Fin (k1_t81_loop v1492 v1494).trips) (k1_t82 : Fin (k1_t82_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t82
  let v3026 : BitVec 32 := Scalar.addi v2976 arg46
  let v3032 : Index := Scalar.indexCast v3026
  let c16_1447 : Index := 16#32
  ![v3032.toNat, 16]
def k1_off1103 (v1492 : BitVec 32) (v1494 : BitVec 32) (k1_t81 : Fin (k1_t81_loop v1492 v1494).trips) (k1_t82 : Fin (k1_t82_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t82
  let v3026 : BitVec 32 := Scalar.addi v2976 arg46
  let v3037 : Index := Scalar.indexCast v3026
  let c32_1448 : Index := 32#32
  ![v3037.toNat, 32]
def k1_off1104 (v1492 : BitVec 32) (v1494 : BitVec 32) (k1_t81 : Fin (k1_t81_loop v1492 v1494).trips) (k1_t82 : Fin (k1_t82_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t82
  let v3026 : BitVec 32 := Scalar.addi v2976 arg46
  let v3042 : Index := Scalar.indexCast v3026
  let c48_1449 : Index := 48#32
  ![v3042.toNat, 48]
def k1_off1105 (v1492 : BitVec 32) (v1494 : BitVec 32) (k1_t81 : Fin (k1_t81_loop v1492 v1494).trips) (k1_t82 : Fin (k1_t82_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t82
  let v3026 : BitVec 32 := Scalar.addi v2976 arg46
  let v3047 : Index := Scalar.indexCast v3026
  let c64_1450 : Index := 64#32
  ![v3047.toNat, 64]
def k1_off1106 (v1492 : BitVec 32) (v1494 : BitVec 32) (k1_t81 : Fin (k1_t81_loop v1492 v1494).trips) (k1_t82 : Fin (k1_t82_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t82
  let v3026 : BitVec 32 := Scalar.addi v2976 arg46
  let v3052 : Index := Scalar.indexCast v3026
  let c80_1451 : Index := 80#32
  ![v3052.toNat, 80]
def k1_off1107 (v1492 : BitVec 32) (v1494 : BitVec 32) (k1_t81 : Fin (k1_t81_loop v1492 v1494).trips) (k1_t82 : Fin (k1_t82_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t82
  let v3026 : BitVec 32 := Scalar.addi v2976 arg46
  let v3057 : Index := Scalar.indexCast v3026
  let c96_1452 : Index := 96#32
  ![v3057.toNat, 96]
def k1_off1108 (v1492 : BitVec 32) (v1494 : BitVec 32) (k1_t81 : Fin (k1_t81_loop v1492 v1494).trips) (k1_t82 : Fin (k1_t82_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t82
  let v3026 : BitVec 32 := Scalar.addi v2976 arg46
  let v3062 : Index := Scalar.indexCast v3026
  let c112_1453 : Index := 112#32
  ![v3062.toNat, 112]
def k1_off1109 (v1492 : BitVec 32) (v1494 : BitVec 32) (k1_t81 : Fin (k1_t81_loop v1492 v1494).trips) (k1_t82 : Fin (k1_t82_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t82
  let v3026 : BitVec 32 := Scalar.addi v2976 arg46
  let v3067 : Index := Scalar.indexCast v3026
  let c128_1454 : Index := 128#32
  ![v3067.toNat, 128]
def k1_off1110 (v1492 : BitVec 32) (v1494 : BitVec 32) (k1_t81 : Fin (k1_t81_loop v1492 v1494).trips) (k1_t82 : Fin (k1_t82_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t82
  let v3026 : BitVec 32 := Scalar.addi v2976 arg46
  let v3072 : Index := Scalar.indexCast v3026
  let c144_1455 : Index := 144#32
  ![v3072.toNat, 144]
def k1_off1111 (v1492 : BitVec 32) (v1494 : BitVec 32) (k1_t81 : Fin (k1_t81_loop v1492 v1494).trips) (k1_t82 : Fin (k1_t82_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t82
  let v3026 : BitVec 32 := Scalar.addi v2976 arg46
  let v3077 : Index := Scalar.indexCast v3026
  let c160_1456 : Index := 160#32
  ![v3077.toNat, 160]
def k1_off1112 (v1492 : BitVec 32) (v1494 : BitVec 32) (k1_t81 : Fin (k1_t81_loop v1492 v1494).trips) (k1_t82 : Fin (k1_t82_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t82
  let v3026 : BitVec 32 := Scalar.addi v2976 arg46
  let v3082 : Index := Scalar.indexCast v3026
  let c176_1457 : Index := 176#32
  ![v3082.toNat, 176]
def k1_off1113 (v1492 : BitVec 32) (v1494 : BitVec 32) (k1_t81 : Fin (k1_t81_loop v1492 v1494).trips) (k1_t82 : Fin (k1_t82_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t82
  let v3026 : BitVec 32 := Scalar.addi v2976 arg46
  let v3087 : Index := Scalar.indexCast v3026
  let c192_1458 : Index := 192#32
  ![v3087.toNat, 192]
def k1_off1114 (v1492 : BitVec 32) (v1494 : BitVec 32) (k1_t81 : Fin (k1_t81_loop v1492 v1494).trips) (k1_t82 : Fin (k1_t82_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t82
  let v3026 : BitVec 32 := Scalar.addi v2976 arg46
  let v3092 : Index := Scalar.indexCast v3026
  let c208_1459 : Index := 208#32
  ![v3092.toNat, 208]
def k1_off1115 (v1492 : BitVec 32) (v1494 : BitVec 32) (k1_t81 : Fin (k1_t81_loop v1492 v1494).trips) (k1_t82 : Fin (k1_t82_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t82
  let v3026 : BitVec 32 := Scalar.addi v2976 arg46
  let v3097 : Index := Scalar.indexCast v3026
  let c224_1460 : Index := 224#32
  ![v3097.toNat, 224]
def k1_off1116 (v1492 : BitVec 32) (v1494 : BitVec 32) (k1_t81 : Fin (k1_t81_loop v1492 v1494).trips) (k1_t82 : Fin (k1_t82_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t82
  let v3026 : BitVec 32 := Scalar.addi v2976 arg46
  let v3102 : Index := Scalar.indexCast v3026
  let c240_1461 : Index := 240#32
  ![v3102.toNat, 240]
@[reducible] def k1_t83_loop (v1492 : BitVec 32) (v1494 : BitVec 32) (k1_t81 : Fin (k1_t81_loop v1492 v1494).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off1117 (v1492 : BitVec 32) (v1494 : BitVec 32) (k1_t81 : Fin (k1_t81_loop v1492 v1494).trips) (k1_t83 : Fin (k1_t83_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t83
  let v3026 : BitVec 32 := Scalar.addi v2976 arg46
  let v3027 : Index := Scalar.indexCast v3026
  let c0_1446 : Index := 0#32
  ![v3027.toNat, 0]
def k1_off1118 (v1492 : BitVec 32) (v1494 : BitVec 32) (k1_t81 : Fin (k1_t81_loop v1492 v1494).trips) (k1_t83 : Fin (k1_t83_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t83
  let v3026 : BitVec 32 := Scalar.addi v2976 arg46
  let v3032 : Index := Scalar.indexCast v3026
  let c16_1447 : Index := 16#32
  ![v3032.toNat, 16]
def k1_off1119 (v1492 : BitVec 32) (v1494 : BitVec 32) (k1_t81 : Fin (k1_t81_loop v1492 v1494).trips) (k1_t83 : Fin (k1_t83_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t83
  let v3026 : BitVec 32 := Scalar.addi v2976 arg46
  let v3037 : Index := Scalar.indexCast v3026
  let c32_1448 : Index := 32#32
  ![v3037.toNat, 32]
def k1_off1120 (v1492 : BitVec 32) (v1494 : BitVec 32) (k1_t81 : Fin (k1_t81_loop v1492 v1494).trips) (k1_t83 : Fin (k1_t83_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t83
  let v3026 : BitVec 32 := Scalar.addi v2976 arg46
  let v3042 : Index := Scalar.indexCast v3026
  let c48_1449 : Index := 48#32
  ![v3042.toNat, 48]
def k1_off1121 (v1492 : BitVec 32) (v1494 : BitVec 32) (k1_t81 : Fin (k1_t81_loop v1492 v1494).trips) (k1_t83 : Fin (k1_t83_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t83
  let v3026 : BitVec 32 := Scalar.addi v2976 arg46
  let v3047 : Index := Scalar.indexCast v3026
  let c64_1450 : Index := 64#32
  ![v3047.toNat, 64]
def k1_off1122 (v1492 : BitVec 32) (v1494 : BitVec 32) (k1_t81 : Fin (k1_t81_loop v1492 v1494).trips) (k1_t83 : Fin (k1_t83_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t83
  let v3026 : BitVec 32 := Scalar.addi v2976 arg46
  let v3052 : Index := Scalar.indexCast v3026
  let c80_1451 : Index := 80#32
  ![v3052.toNat, 80]
def k1_off1123 (v1492 : BitVec 32) (v1494 : BitVec 32) (k1_t81 : Fin (k1_t81_loop v1492 v1494).trips) (k1_t83 : Fin (k1_t83_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t83
  let v3026 : BitVec 32 := Scalar.addi v2976 arg46
  let v3057 : Index := Scalar.indexCast v3026
  let c96_1452 : Index := 96#32
  ![v3057.toNat, 96]
def k1_off1124 (v1492 : BitVec 32) (v1494 : BitVec 32) (k1_t81 : Fin (k1_t81_loop v1492 v1494).trips) (k1_t83 : Fin (k1_t83_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t83
  let v3026 : BitVec 32 := Scalar.addi v2976 arg46
  let v3062 : Index := Scalar.indexCast v3026
  let c112_1453 : Index := 112#32
  ![v3062.toNat, 112]
def k1_off1125 (v1492 : BitVec 32) (v1494 : BitVec 32) (k1_t81 : Fin (k1_t81_loop v1492 v1494).trips) (k1_t83 : Fin (k1_t83_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t83
  let v3026 : BitVec 32 := Scalar.addi v2976 arg46
  let v3067 : Index := Scalar.indexCast v3026
  let c128_1454 : Index := 128#32
  ![v3067.toNat, 128]
def k1_off1126 (v1492 : BitVec 32) (v1494 : BitVec 32) (k1_t81 : Fin (k1_t81_loop v1492 v1494).trips) (k1_t83 : Fin (k1_t83_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t83
  let v3026 : BitVec 32 := Scalar.addi v2976 arg46
  let v3072 : Index := Scalar.indexCast v3026
  let c144_1455 : Index := 144#32
  ![v3072.toNat, 144]
def k1_off1127 (v1492 : BitVec 32) (v1494 : BitVec 32) (k1_t81 : Fin (k1_t81_loop v1492 v1494).trips) (k1_t83 : Fin (k1_t83_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t83
  let v3026 : BitVec 32 := Scalar.addi v2976 arg46
  let v3077 : Index := Scalar.indexCast v3026
  let c160_1456 : Index := 160#32
  ![v3077.toNat, 160]
def k1_off1128 (v1492 : BitVec 32) (v1494 : BitVec 32) (k1_t81 : Fin (k1_t81_loop v1492 v1494).trips) (k1_t83 : Fin (k1_t83_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t83
  let v3026 : BitVec 32 := Scalar.addi v2976 arg46
  let v3082 : Index := Scalar.indexCast v3026
  let c176_1457 : Index := 176#32
  ![v3082.toNat, 176]
def k1_off1129 (v1492 : BitVec 32) (v1494 : BitVec 32) (k1_t81 : Fin (k1_t81_loop v1492 v1494).trips) (k1_t83 : Fin (k1_t83_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t83
  let v3026 : BitVec 32 := Scalar.addi v2976 arg46
  let v3087 : Index := Scalar.indexCast v3026
  let c192_1458 : Index := 192#32
  ![v3087.toNat, 192]
def k1_off1130 (v1492 : BitVec 32) (v1494 : BitVec 32) (k1_t81 : Fin (k1_t81_loop v1492 v1494).trips) (k1_t83 : Fin (k1_t83_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t83
  let v3026 : BitVec 32 := Scalar.addi v2976 arg46
  let v3092 : Index := Scalar.indexCast v3026
  let c208_1459 : Index := 208#32
  ![v3092.toNat, 208]
def k1_off1131 (v1492 : BitVec 32) (v1494 : BitVec 32) (k1_t81 : Fin (k1_t81_loop v1492 v1494).trips) (k1_t83 : Fin (k1_t83_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t83
  let v3026 : BitVec 32 := Scalar.addi v2976 arg46
  let v3097 : Index := Scalar.indexCast v3026
  let c224_1460 : Index := 224#32
  ![v3097.toNat, 224]
def k1_off1132 (v1492 : BitVec 32) (v1494 : BitVec 32) (k1_t81 : Fin (k1_t81_loop v1492 v1494).trips) (k1_t83 : Fin (k1_t83_loop v1492 v1494 k1_t81).trips) : Fin 2 → Nat :=
  let c2_i32_1408 : BitVec 32 := 2#32
  let c0_i32_723 : BitVec 32 := 0#32
  let c1_i32_725 : BitVec 32 := 1#32
  let arg13 : BitVec 32 := Scf.iv c0_i32_723 c1_i32_725 k1_t81
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t83
  let v3026 : BitVec 32 := Scalar.addi v2976 arg46
  let v3102 : Index := Scalar.indexCast v3026
  let c240_1461 : Index := 240#32
  ![v3102.toNat, 240]
def k1_off1133 (i : grid1.Coords) (v1492 : BitVec 32) (v1494 : BitVec 32) (k1_t81 : Fin (k1_t81_loop v1492 v1494).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v1492 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond76 (v1492 : BitVec 32) (v1494 : BitVec 32) (k1_t81 : Fin (k1_t81_loop v1492 v1494).trips) : BitVec 1 :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let v2989 : BitVec 1 := Scalar.cmpi .slt v2988 v1516
  let v2990 : BitVec 32 := Scalar.extui v2989
  let c0_i32_1428 : BitVec 32 := 0#32
  let v2991 : BitVec 1 := Scalar.cmpi .ne v2990 c0_i32_1428
  v2991

def k1_off1134 (i : grid1.Coords) (v1492 : BitVec 32) (v1494 : BitVec 32) (k1_t81 : Fin (k1_t81_loop v1492 v1494).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v1492 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond77 (v1492 : BitVec 32) (v1494 : BitVec 32) (k1_t81 : Fin (k1_t81_loop v1492 v1494).trips) : BitVec 1 :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let v3050 : BitVec 1 := Scalar.cmpi .slt v3049 v1516
  let v3051 : BitVec 32 := Scalar.extui v3050
  let c0_i32_1457 : BitVec 32 := 0#32
  let v3052 : BitVec 1 := Scalar.cmpi .ne v3051 c0_i32_1457
  v3052

@[reducible] def k1_t84_loop (v1492 : BitVec 32) (v1494 : BitVec 32) (k1_t81 : Fin (k1_t81_loop v1492 v1494).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off1135 (v1492 : BitVec 32) (v1494 : BitVec 32) (k1_t81 : Fin (k1_t81_loop v1492 v1494).trips) (k1_t84 : Fin (k1_t84_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t84
  let v3026 : BitVec 32 := Scalar.addi v3015 arg46
  let v3027 : Index := Scalar.indexCast v3026
  let c0_1446 : Index := 0#32
  ![v3027.toNat, 0]
def k1_off1136 (v1492 : BitVec 32) (v1494 : BitVec 32) (k1_t81 : Fin (k1_t81_loop v1492 v1494).trips) (k1_t84 : Fin (k1_t84_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t84
  let v3026 : BitVec 32 := Scalar.addi v3015 arg46
  let v3032 : Index := Scalar.indexCast v3026
  let c16_1447 : Index := 16#32
  ![v3032.toNat, 16]
def k1_off1137 (v1492 : BitVec 32) (v1494 : BitVec 32) (k1_t81 : Fin (k1_t81_loop v1492 v1494).trips) (k1_t84 : Fin (k1_t84_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t84
  let v3026 : BitVec 32 := Scalar.addi v3015 arg46
  let v3037 : Index := Scalar.indexCast v3026
  let c32_1448 : Index := 32#32
  ![v3037.toNat, 32]
def k1_off1138 (v1492 : BitVec 32) (v1494 : BitVec 32) (k1_t81 : Fin (k1_t81_loop v1492 v1494).trips) (k1_t84 : Fin (k1_t84_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t84
  let v3026 : BitVec 32 := Scalar.addi v3015 arg46
  let v3042 : Index := Scalar.indexCast v3026
  let c48_1449 : Index := 48#32
  ![v3042.toNat, 48]
def k1_off1139 (v1492 : BitVec 32) (v1494 : BitVec 32) (k1_t81 : Fin (k1_t81_loop v1492 v1494).trips) (k1_t84 : Fin (k1_t84_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t84
  let v3026 : BitVec 32 := Scalar.addi v3015 arg46
  let v3047 : Index := Scalar.indexCast v3026
  let c64_1450 : Index := 64#32
  ![v3047.toNat, 64]
def k1_off1140 (v1492 : BitVec 32) (v1494 : BitVec 32) (k1_t81 : Fin (k1_t81_loop v1492 v1494).trips) (k1_t84 : Fin (k1_t84_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t84
  let v3026 : BitVec 32 := Scalar.addi v3015 arg46
  let v3052 : Index := Scalar.indexCast v3026
  let c80_1451 : Index := 80#32
  ![v3052.toNat, 80]
def k1_off1141 (v1492 : BitVec 32) (v1494 : BitVec 32) (k1_t81 : Fin (k1_t81_loop v1492 v1494).trips) (k1_t84 : Fin (k1_t84_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t84
  let v3026 : BitVec 32 := Scalar.addi v3015 arg46
  let v3057 : Index := Scalar.indexCast v3026
  let c96_1452 : Index := 96#32
  ![v3057.toNat, 96]
def k1_off1142 (v1492 : BitVec 32) (v1494 : BitVec 32) (k1_t81 : Fin (k1_t81_loop v1492 v1494).trips) (k1_t84 : Fin (k1_t84_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t84
  let v3026 : BitVec 32 := Scalar.addi v3015 arg46
  let v3062 : Index := Scalar.indexCast v3026
  let c112_1453 : Index := 112#32
  ![v3062.toNat, 112]
def k1_off1143 (v1492 : BitVec 32) (v1494 : BitVec 32) (k1_t81 : Fin (k1_t81_loop v1492 v1494).trips) (k1_t84 : Fin (k1_t84_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t84
  let v3026 : BitVec 32 := Scalar.addi v3015 arg46
  let v3067 : Index := Scalar.indexCast v3026
  let c128_1454 : Index := 128#32
  ![v3067.toNat, 128]
def k1_off1144 (v1492 : BitVec 32) (v1494 : BitVec 32) (k1_t81 : Fin (k1_t81_loop v1492 v1494).trips) (k1_t84 : Fin (k1_t84_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t84
  let v3026 : BitVec 32 := Scalar.addi v3015 arg46
  let v3072 : Index := Scalar.indexCast v3026
  let c144_1455 : Index := 144#32
  ![v3072.toNat, 144]
def k1_off1145 (v1492 : BitVec 32) (v1494 : BitVec 32) (k1_t81 : Fin (k1_t81_loop v1492 v1494).trips) (k1_t84 : Fin (k1_t84_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t84
  let v3026 : BitVec 32 := Scalar.addi v3015 arg46
  let v3077 : Index := Scalar.indexCast v3026
  let c160_1456 : Index := 160#32
  ![v3077.toNat, 160]
def k1_off1146 (v1492 : BitVec 32) (v1494 : BitVec 32) (k1_t81 : Fin (k1_t81_loop v1492 v1494).trips) (k1_t84 : Fin (k1_t84_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t84
  let v3026 : BitVec 32 := Scalar.addi v3015 arg46
  let v3082 : Index := Scalar.indexCast v3026
  let c176_1457 : Index := 176#32
  ![v3082.toNat, 176]
def k1_off1147 (v1492 : BitVec 32) (v1494 : BitVec 32) (k1_t81 : Fin (k1_t81_loop v1492 v1494).trips) (k1_t84 : Fin (k1_t84_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t84
  let v3026 : BitVec 32 := Scalar.addi v3015 arg46
  let v3087 : Index := Scalar.indexCast v3026
  let c192_1458 : Index := 192#32
  ![v3087.toNat, 192]
def k1_off1148 (v1492 : BitVec 32) (v1494 : BitVec 32) (k1_t81 : Fin (k1_t81_loop v1492 v1494).trips) (k1_t84 : Fin (k1_t84_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t84
  let v3026 : BitVec 32 := Scalar.addi v3015 arg46
  let v3092 : Index := Scalar.indexCast v3026
  let c208_1459 : Index := 208#32
  ![v3092.toNat, 208]
def k1_off1149 (v1492 : BitVec 32) (v1494 : BitVec 32) (k1_t81 : Fin (k1_t81_loop v1492 v1494).trips) (k1_t84 : Fin (k1_t84_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t84
  let v3026 : BitVec 32 := Scalar.addi v3015 arg46
  let v3097 : Index := Scalar.indexCast v3026
  let c224_1460 : Index := 224#32
  ![v3097.toNat, 224]
def k1_off1150 (v1492 : BitVec 32) (v1494 : BitVec 32) (k1_t81 : Fin (k1_t81_loop v1492 v1494).trips) (k1_t84 : Fin (k1_t84_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t84
  let v3026 : BitVec 32 := Scalar.addi v3015 arg46
  let v3102 : Index := Scalar.indexCast v3026
  let c240_1461 : Index := 240#32
  ![v3102.toNat, 240]
@[reducible] def k1_t85_loop (v1492 : BitVec 32) (v1494 : BitVec 32) (k1_t81 : Fin (k1_t81_loop v1492 v1494).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off1151 (v1492 : BitVec 32) (v1494 : BitVec 32) (k1_t81 : Fin (k1_t81_loop v1492 v1494).trips) (k1_t85 : Fin (k1_t85_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t85
  let v3026 : BitVec 32 := Scalar.addi v3015 arg46
  let v3027 : Index := Scalar.indexCast v3026
  let c0_1446 : Index := 0#32
  ![v3027.toNat, 0]
def k1_off1152 (v1492 : BitVec 32) (v1494 : BitVec 32) (k1_t81 : Fin (k1_t81_loop v1492 v1494).trips) (k1_t85 : Fin (k1_t85_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t85
  let v3026 : BitVec 32 := Scalar.addi v3015 arg46
  let v3032 : Index := Scalar.indexCast v3026
  let c16_1447 : Index := 16#32
  ![v3032.toNat, 16]
def k1_off1153 (v1492 : BitVec 32) (v1494 : BitVec 32) (k1_t81 : Fin (k1_t81_loop v1492 v1494).trips) (k1_t85 : Fin (k1_t85_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t85
  let v3026 : BitVec 32 := Scalar.addi v3015 arg46
  let v3037 : Index := Scalar.indexCast v3026
  let c32_1448 : Index := 32#32
  ![v3037.toNat, 32]
def k1_off1154 (v1492 : BitVec 32) (v1494 : BitVec 32) (k1_t81 : Fin (k1_t81_loop v1492 v1494).trips) (k1_t85 : Fin (k1_t85_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t85
  let v3026 : BitVec 32 := Scalar.addi v3015 arg46
  let v3042 : Index := Scalar.indexCast v3026
  let c48_1449 : Index := 48#32
  ![v3042.toNat, 48]
def k1_off1155 (v1492 : BitVec 32) (v1494 : BitVec 32) (k1_t81 : Fin (k1_t81_loop v1492 v1494).trips) (k1_t85 : Fin (k1_t85_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t85
  let v3026 : BitVec 32 := Scalar.addi v3015 arg46
  let v3047 : Index := Scalar.indexCast v3026
  let c64_1450 : Index := 64#32
  ![v3047.toNat, 64]
def k1_off1156 (v1492 : BitVec 32) (v1494 : BitVec 32) (k1_t81 : Fin (k1_t81_loop v1492 v1494).trips) (k1_t85 : Fin (k1_t85_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t85
  let v3026 : BitVec 32 := Scalar.addi v3015 arg46
  let v3052 : Index := Scalar.indexCast v3026
  let c80_1451 : Index := 80#32
  ![v3052.toNat, 80]
def k1_off1157 (v1492 : BitVec 32) (v1494 : BitVec 32) (k1_t81 : Fin (k1_t81_loop v1492 v1494).trips) (k1_t85 : Fin (k1_t85_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t85
  let v3026 : BitVec 32 := Scalar.addi v3015 arg46
  let v3057 : Index := Scalar.indexCast v3026
  let c96_1452 : Index := 96#32
  ![v3057.toNat, 96]
def k1_off1158 (v1492 : BitVec 32) (v1494 : BitVec 32) (k1_t81 : Fin (k1_t81_loop v1492 v1494).trips) (k1_t85 : Fin (k1_t85_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t85
  let v3026 : BitVec 32 := Scalar.addi v3015 arg46
  let v3062 : Index := Scalar.indexCast v3026
  let c112_1453 : Index := 112#32
  ![v3062.toNat, 112]
def k1_off1159 (v1492 : BitVec 32) (v1494 : BitVec 32) (k1_t81 : Fin (k1_t81_loop v1492 v1494).trips) (k1_t85 : Fin (k1_t85_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t85
  let v3026 : BitVec 32 := Scalar.addi v3015 arg46
  let v3067 : Index := Scalar.indexCast v3026
  let c128_1454 : Index := 128#32
  ![v3067.toNat, 128]
def k1_off1160 (v1492 : BitVec 32) (v1494 : BitVec 32) (k1_t81 : Fin (k1_t81_loop v1492 v1494).trips) (k1_t85 : Fin (k1_t85_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t85
  let v3026 : BitVec 32 := Scalar.addi v3015 arg46
  let v3072 : Index := Scalar.indexCast v3026
  let c144_1455 : Index := 144#32
  ![v3072.toNat, 144]
def k1_off1161 (v1492 : BitVec 32) (v1494 : BitVec 32) (k1_t81 : Fin (k1_t81_loop v1492 v1494).trips) (k1_t85 : Fin (k1_t85_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t85
  let v3026 : BitVec 32 := Scalar.addi v3015 arg46
  let v3077 : Index := Scalar.indexCast v3026
  let c160_1456 : Index := 160#32
  ![v3077.toNat, 160]
def k1_off1162 (v1492 : BitVec 32) (v1494 : BitVec 32) (k1_t81 : Fin (k1_t81_loop v1492 v1494).trips) (k1_t85 : Fin (k1_t85_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t85
  let v3026 : BitVec 32 := Scalar.addi v3015 arg46
  let v3082 : Index := Scalar.indexCast v3026
  let c176_1457 : Index := 176#32
  ![v3082.toNat, 176]
def k1_off1163 (v1492 : BitVec 32) (v1494 : BitVec 32) (k1_t81 : Fin (k1_t81_loop v1492 v1494).trips) (k1_t85 : Fin (k1_t85_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t85
  let v3026 : BitVec 32 := Scalar.addi v3015 arg46
  let v3087 : Index := Scalar.indexCast v3026
  let c192_1458 : Index := 192#32
  ![v3087.toNat, 192]
def k1_off1164 (v1492 : BitVec 32) (v1494 : BitVec 32) (k1_t81 : Fin (k1_t81_loop v1492 v1494).trips) (k1_t85 : Fin (k1_t85_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t85
  let v3026 : BitVec 32 := Scalar.addi v3015 arg46
  let v3092 : Index := Scalar.indexCast v3026
  let c208_1459 : Index := 208#32
  ![v3092.toNat, 208]

variable {F : FTy → Type} [FloatOps F]

def k1_off1165 (v1492 : BitVec 32) (v1494 : BitVec 32) (k1_t81 : Fin (k1_t81_loop v1492 v1494).trips) (k1_t85 : Fin (k1_t85_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t85
  let v3026 : BitVec 32 := Scalar.addi v3015 arg46
  let v3097 : Index := Scalar.indexCast v3026
  let c224_1460 : Index := 224#32
  ![v3097.toNat, 224]
def k1_off1166 (v1492 : BitVec 32) (v1494 : BitVec 32) (k1_t81 : Fin (k1_t81_loop v1492 v1494).trips) (k1_t85 : Fin (k1_t85_loop v1492 v1494 k1_t81).trips) : Fin 2 → Nat :=
  let c2_i32_1426 : BitVec 32 := 2#32
  let c0_i32_723 : BitVec 32 := 0#32
  let c1_i32_725 : BitVec 32 := 1#32
  let arg13 : BitVec 32 := Scf.iv c0_i32_723 c1_i32_725 k1_t81
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t85
  let v3026 : BitVec 32 := Scalar.addi v3015 arg46
  let v3102 : Index := Scalar.indexCast v3026
  let c240_1461 : Index := 240#32
  ![v3102.toNat, 240]
@[reducible] def k1_t86_loop (v1492 : BitVec 32) (v1494 : BitVec 32) : Scf.Loop 32 :=
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let v1539 : BitVec 32 := Scalar.addi c0_i32_723 v1538
  let c1_i32_726 : BitVec 32 := 1#32
  ⟨v1542, v1539, c1_i32_726⟩
def k1_off1167 (i : grid1.Coords) (v1492 : BitVec 32) (v1494 : BitVec 32) (k1_t86 : Fin (k1_t86_loop v1492 v1494).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1446 : BitVec 32 := 64#32
  let v3026 : BitVec 32 := Scalar.muli v2949 c64_i32_1446
  let v3027 : BitVec 32 := Scalar.addi v1492 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond78 (v1492 : BitVec 32) (v1494 : BitVec 32) (k1_t86 : Fin (k1_t86_loop v1492 v1494).trips) : BitVec 1 :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let v2950 : BitVec 1 := Scalar.cmpi .slt v2949 v1516
  let v2951 : BitVec 32 := Scalar.extui v2950
  let c0_i32_1409 : BitVec 32 := 0#32
  let v2952 : BitVec 1 := Scalar.cmpi .ne v2951 c0_i32_1409
  v2952

def k1_off1168 (i : grid1.Coords) (v1492 : BitVec 32) (v1494 : BitVec 32) (k1_t86 : Fin (k1_t86_loop v1492 v1494).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v1492 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond79 (v1492 : BitVec 32) (v1494 : BitVec 32) (k1_t86 : Fin (k1_t86_loop v1492 v1494).trips) : BitVec 1 :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c1_i32_1456 : BitVec 32 := 1#32
  let v3049 : BitVec 32 := Scalar.addi v2949 c1_i32_1456
  let v3050 : BitVec 1 := Scalar.cmpi .slt v3049 v1516
  let v3051 : BitVec 32 := Scalar.extui v3050
  let c0_i32_1457 : BitVec 32 := 0#32
  let v3052 : BitVec 1 := Scalar.cmpi .ne v3051 c0_i32_1457
  v3052

@[reducible] def k1_t87_loop (v1492 : BitVec 32) (v1494 : BitVec 32) (k1_t86 : Fin (k1_t86_loop v1492 v1494).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off1169 (v1492 : BitVec 32) (v1494 : BitVec 32) (k1_t86 : Fin (k1_t86_loop v1492 v1494).trips) (k1_t87 : Fin (k1_t87_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t87
  let v3026 : BitVec 32 := Scalar.addi v2976 arg46
  let v3027 : Index := Scalar.indexCast v3026
  let c0_1446 : Index := 0#32
  ![v3027.toNat, 0]
def k1_off1170 (v1492 : BitVec 32) (v1494 : BitVec 32) (k1_t86 : Fin (k1_t86_loop v1492 v1494).trips) (k1_t87 : Fin (k1_t87_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t87
  let v3026 : BitVec 32 := Scalar.addi v2976 arg46
  let v3032 : Index := Scalar.indexCast v3026
  let c16_1447 : Index := 16#32
  ![v3032.toNat, 16]
def k1_off1171 (v1492 : BitVec 32) (v1494 : BitVec 32) (k1_t86 : Fin (k1_t86_loop v1492 v1494).trips) (k1_t87 : Fin (k1_t87_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t87
  let v3026 : BitVec 32 := Scalar.addi v2976 arg46
  let v3037 : Index := Scalar.indexCast v3026
  let c32_1448 : Index := 32#32
  ![v3037.toNat, 32]
def k1_off1172 (v1492 : BitVec 32) (v1494 : BitVec 32) (k1_t86 : Fin (k1_t86_loop v1492 v1494).trips) (k1_t87 : Fin (k1_t87_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t87
  let v3026 : BitVec 32 := Scalar.addi v2976 arg46
  let v3042 : Index := Scalar.indexCast v3026
  let c48_1449 : Index := 48#32
  ![v3042.toNat, 48]
def k1_off1173 (v1492 : BitVec 32) (v1494 : BitVec 32) (k1_t86 : Fin (k1_t86_loop v1492 v1494).trips) (k1_t87 : Fin (k1_t87_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t87
  let v3026 : BitVec 32 := Scalar.addi v2976 arg46
  let v3047 : Index := Scalar.indexCast v3026
  let c64_1450 : Index := 64#32
  ![v3047.toNat, 64]
def k1_off1174 (v1492 : BitVec 32) (v1494 : BitVec 32) (k1_t86 : Fin (k1_t86_loop v1492 v1494).trips) (k1_t87 : Fin (k1_t87_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t87
  let v3026 : BitVec 32 := Scalar.addi v2976 arg46
  let v3052 : Index := Scalar.indexCast v3026
  let c80_1451 : Index := 80#32
  ![v3052.toNat, 80]
def k1_off1175 (v1492 : BitVec 32) (v1494 : BitVec 32) (k1_t86 : Fin (k1_t86_loop v1492 v1494).trips) (k1_t87 : Fin (k1_t87_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t87
  let v3026 : BitVec 32 := Scalar.addi v2976 arg46
  let v3057 : Index := Scalar.indexCast v3026
  let c96_1452 : Index := 96#32
  ![v3057.toNat, 96]
def k1_off1176 (v1492 : BitVec 32) (v1494 : BitVec 32) (k1_t86 : Fin (k1_t86_loop v1492 v1494).trips) (k1_t87 : Fin (k1_t87_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t87
  let v3026 : BitVec 32 := Scalar.addi v2976 arg46
  let v3062 : Index := Scalar.indexCast v3026
  let c112_1453 : Index := 112#32
  ![v3062.toNat, 112]
def k1_off1177 (v1492 : BitVec 32) (v1494 : BitVec 32) (k1_t86 : Fin (k1_t86_loop v1492 v1494).trips) (k1_t87 : Fin (k1_t87_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t87
  let v3026 : BitVec 32 := Scalar.addi v2976 arg46
  let v3067 : Index := Scalar.indexCast v3026
  let c128_1454 : Index := 128#32
  ![v3067.toNat, 128]
def k1_off1178 (v1492 : BitVec 32) (v1494 : BitVec 32) (k1_t86 : Fin (k1_t86_loop v1492 v1494).trips) (k1_t87 : Fin (k1_t87_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t87
  let v3026 : BitVec 32 := Scalar.addi v2976 arg46
  let v3072 : Index := Scalar.indexCast v3026
  let c144_1455 : Index := 144#32
  ![v3072.toNat, 144]
def k1_off1179 (v1492 : BitVec 32) (v1494 : BitVec 32) (k1_t86 : Fin (k1_t86_loop v1492 v1494).trips) (k1_t87 : Fin (k1_t87_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t87
  let v3026 : BitVec 32 := Scalar.addi v2976 arg46
  let v3077 : Index := Scalar.indexCast v3026
  let c160_1456 : Index := 160#32
  ![v3077.toNat, 160]
def k1_off1180 (v1492 : BitVec 32) (v1494 : BitVec 32) (k1_t86 : Fin (k1_t86_loop v1492 v1494).trips) (k1_t87 : Fin (k1_t87_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t87
  let v3026 : BitVec 32 := Scalar.addi v2976 arg46
  let v3082 : Index := Scalar.indexCast v3026
  let c176_1457 : Index := 176#32
  ![v3082.toNat, 176]
def k1_off1181 (v1492 : BitVec 32) (v1494 : BitVec 32) (k1_t86 : Fin (k1_t86_loop v1492 v1494).trips) (k1_t87 : Fin (k1_t87_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t87
  let v3026 : BitVec 32 := Scalar.addi v2976 arg46
  let v3087 : Index := Scalar.indexCast v3026
  let c192_1458 : Index := 192#32
  ![v3087.toNat, 192]
def k1_off1182 (v1492 : BitVec 32) (v1494 : BitVec 32) (k1_t86 : Fin (k1_t86_loop v1492 v1494).trips) (k1_t87 : Fin (k1_t87_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t87
  let v3026 : BitVec 32 := Scalar.addi v2976 arg46
  let v3092 : Index := Scalar.indexCast v3026
  let c208_1459 : Index := 208#32
  ![v3092.toNat, 208]
def k1_off1183 (v1492 : BitVec 32) (v1494 : BitVec 32) (k1_t86 : Fin (k1_t86_loop v1492 v1494).trips) (k1_t87 : Fin (k1_t87_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t87
  let v3026 : BitVec 32 := Scalar.addi v2976 arg46
  let v3097 : Index := Scalar.indexCast v3026
  let c224_1460 : Index := 224#32
  ![v3097.toNat, 224]
def k1_off1184 (v1492 : BitVec 32) (v1494 : BitVec 32) (k1_t86 : Fin (k1_t86_loop v1492 v1494).trips) (k1_t87 : Fin (k1_t87_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t87
  let v3026 : BitVec 32 := Scalar.addi v2976 arg46
  let v3102 : Index := Scalar.indexCast v3026
  let c240_1461 : Index := 240#32
  ![v3102.toNat, 240]
@[reducible] def k1_t88_loop (v1492 : BitVec 32) (v1494 : BitVec 32) (k1_t86 : Fin (k1_t86_loop v1492 v1494).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off1185 (v1492 : BitVec 32) (v1494 : BitVec 32) (k1_t86 : Fin (k1_t86_loop v1492 v1494).trips) (k1_t88 : Fin (k1_t88_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t88
  let v3026 : BitVec 32 := Scalar.addi v2976 arg46
  let v3027 : Index := Scalar.indexCast v3026
  let c0_1446 : Index := 0#32
  ![v3027.toNat, 0]
def k1_off1186 (v1492 : BitVec 32) (v1494 : BitVec 32) (k1_t86 : Fin (k1_t86_loop v1492 v1494).trips) (k1_t88 : Fin (k1_t88_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t88
  let v3026 : BitVec 32 := Scalar.addi v2976 arg46
  let v3032 : Index := Scalar.indexCast v3026
  let c16_1447 : Index := 16#32
  ![v3032.toNat, 16]
def k1_off1187 (v1492 : BitVec 32) (v1494 : BitVec 32) (k1_t86 : Fin (k1_t86_loop v1492 v1494).trips) (k1_t88 : Fin (k1_t88_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t88
  let v3026 : BitVec 32 := Scalar.addi v2976 arg46
  let v3037 : Index := Scalar.indexCast v3026
  let c32_1448 : Index := 32#32
  ![v3037.toNat, 32]
def k1_off1188 (v1492 : BitVec 32) (v1494 : BitVec 32) (k1_t86 : Fin (k1_t86_loop v1492 v1494).trips) (k1_t88 : Fin (k1_t88_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t88
  let v3026 : BitVec 32 := Scalar.addi v2976 arg46
  let v3042 : Index := Scalar.indexCast v3026
  let c48_1449 : Index := 48#32
  ![v3042.toNat, 48]
def k1_off1189 (v1492 : BitVec 32) (v1494 : BitVec 32) (k1_t86 : Fin (k1_t86_loop v1492 v1494).trips) (k1_t88 : Fin (k1_t88_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t88
  let v3026 : BitVec 32 := Scalar.addi v2976 arg46
  let v3047 : Index := Scalar.indexCast v3026
  let c64_1450 : Index := 64#32
  ![v3047.toNat, 64]
def k1_off1190 (v1492 : BitVec 32) (v1494 : BitVec 32) (k1_t86 : Fin (k1_t86_loop v1492 v1494).trips) (k1_t88 : Fin (k1_t88_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t88
  let v3026 : BitVec 32 := Scalar.addi v2976 arg46
  let v3052 : Index := Scalar.indexCast v3026
  let c80_1451 : Index := 80#32
  ![v3052.toNat, 80]
def k1_off1191 (v1492 : BitVec 32) (v1494 : BitVec 32) (k1_t86 : Fin (k1_t86_loop v1492 v1494).trips) (k1_t88 : Fin (k1_t88_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t88
  let v3026 : BitVec 32 := Scalar.addi v2976 arg46
  let v3057 : Index := Scalar.indexCast v3026
  let c96_1452 : Index := 96#32
  ![v3057.toNat, 96]
def k1_off1192 (v1492 : BitVec 32) (v1494 : BitVec 32) (k1_t86 : Fin (k1_t86_loop v1492 v1494).trips) (k1_t88 : Fin (k1_t88_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t88
  let v3026 : BitVec 32 := Scalar.addi v2976 arg46
  let v3062 : Index := Scalar.indexCast v3026
  let c112_1453 : Index := 112#32
  ![v3062.toNat, 112]
def k1_off1193 (v1492 : BitVec 32) (v1494 : BitVec 32) (k1_t86 : Fin (k1_t86_loop v1492 v1494).trips) (k1_t88 : Fin (k1_t88_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t88
  let v3026 : BitVec 32 := Scalar.addi v2976 arg46
  let v3067 : Index := Scalar.indexCast v3026
  let c128_1454 : Index := 128#32
  ![v3067.toNat, 128]
def k1_off1194 (v1492 : BitVec 32) (v1494 : BitVec 32) (k1_t86 : Fin (k1_t86_loop v1492 v1494).trips) (k1_t88 : Fin (k1_t88_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t88
  let v3026 : BitVec 32 := Scalar.addi v2976 arg46
  let v3072 : Index := Scalar.indexCast v3026
  let c144_1455 : Index := 144#32
  ![v3072.toNat, 144]
def k1_off1195 (v1492 : BitVec 32) (v1494 : BitVec 32) (k1_t86 : Fin (k1_t86_loop v1492 v1494).trips) (k1_t88 : Fin (k1_t88_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t88
  let v3026 : BitVec 32 := Scalar.addi v2976 arg46
  let v3077 : Index := Scalar.indexCast v3026
  let c160_1456 : Index := 160#32
  ![v3077.toNat, 160]
def k1_off1196 (v1492 : BitVec 32) (v1494 : BitVec 32) (k1_t86 : Fin (k1_t86_loop v1492 v1494).trips) (k1_t88 : Fin (k1_t88_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t88
  let v3026 : BitVec 32 := Scalar.addi v2976 arg46
  let v3082 : Index := Scalar.indexCast v3026
  let c176_1457 : Index := 176#32
  ![v3082.toNat, 176]
def k1_off1197 (v1492 : BitVec 32) (v1494 : BitVec 32) (k1_t86 : Fin (k1_t86_loop v1492 v1494).trips) (k1_t88 : Fin (k1_t88_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t88
  let v3026 : BitVec 32 := Scalar.addi v2976 arg46
  let v3087 : Index := Scalar.indexCast v3026
  let c192_1458 : Index := 192#32
  ![v3087.toNat, 192]
def k1_off1198 (v1492 : BitVec 32) (v1494 : BitVec 32) (k1_t86 : Fin (k1_t86_loop v1492 v1494).trips) (k1_t88 : Fin (k1_t88_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t88
  let v3026 : BitVec 32 := Scalar.addi v2976 arg46
  let v3092 : Index := Scalar.indexCast v3026
  let c208_1459 : Index := 208#32
  ![v3092.toNat, 208]
def k1_off1199 (v1492 : BitVec 32) (v1494 : BitVec 32) (k1_t86 : Fin (k1_t86_loop v1492 v1494).trips) (k1_t88 : Fin (k1_t88_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t88
  let v3026 : BitVec 32 := Scalar.addi v2976 arg46
  let v3097 : Index := Scalar.indexCast v3026
  let c224_1460 : Index := 224#32
  ![v3097.toNat, 224]
def k1_off1200 (v1492 : BitVec 32) (v1494 : BitVec 32) (k1_t86 : Fin (k1_t86_loop v1492 v1494).trips) (k1_t88 : Fin (k1_t88_loop v1492 v1494 k1_t86).trips) : Fin 2 → Nat :=
  let c2_i32_1408 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2949 : BitVec 32 := Scalar.muli c2_i32_1408 arg13
  let c64_i32_1410 : BitVec 32 := 64#32
  let v2953 : BitVec 32 := Scalar.muli v2949 c64_i32_1410
  let v2954 : BitVec 32 := Scalar.addi v1492 v2953
  let c64_i32_1411 : BitVec 32 := 64#32
  let v2955 : BitVec 32 := Scalar.muli v2949 c64_i32_1411
  let v2956 : BitVec 32 := Scalar.addi v1492 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1494 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t88
  let v3026 : BitVec 32 := Scalar.addi v2976 arg46
  let v3102 : Index := Scalar.indexCast v3026
  let c240_1461 : Index := 240#32
  ![v3102.toNat, 240]
def k1_off1201 (i : grid1.Coords) (v1492 : BitVec 32) (v1494 : BitVec 32) (k1_t86 : Fin (k1_t86_loop v1492 v1494).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v1492 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond80 (v1492 : BitVec 32) (v1494 : BitVec 32) (k1_t86 : Fin (k1_t86_loop v1492 v1494).trips) : BitVec 1 :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let v2989 : BitVec 1 := Scalar.cmpi .slt v2988 v1516
  let v2990 : BitVec 32 := Scalar.extui v2989
  let c0_i32_1428 : BitVec 32 := 0#32
  let v2991 : BitVec 1 := Scalar.cmpi .ne v2990 c0_i32_1428
  v2991

def k1_off1202 (i : grid1.Coords) (v1492 : BitVec 32) (v1494 : BitVec 32) (k1_t86 : Fin (k1_t86_loop v1492 v1494).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v1492 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond81 (v1492 : BitVec 32) (v1494 : BitVec 32) (k1_t86 : Fin (k1_t86_loop v1492 v1494).trips) : BitVec 1 :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v3050 : BitVec 1 := Scalar.cmpi .slt v3049 v1516
  let v3051 : BitVec 32 := Scalar.extui v3050
  let c0_i32_1457 : BitVec 32 := 0#32
  let v3052 : BitVec 1 := Scalar.cmpi .ne v3051 c0_i32_1457
  v3052

@[reducible] def k1_t89_loop (v1492 : BitVec 32) (v1494 : BitVec 32) (k1_t86 : Fin (k1_t86_loop v1492 v1494).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off1203 (v1492 : BitVec 32) (v1494 : BitVec 32) (k1_t86 : Fin (k1_t86_loop v1492 v1494).trips) (k1_t89 : Fin (k1_t89_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t89
  let v3026 : BitVec 32 := Scalar.addi v3015 arg46
  let v3027 : Index := Scalar.indexCast v3026
  let c0_1446 : Index := 0#32
  ![v3027.toNat, 0]
def k1_off1204 (v1492 : BitVec 32) (v1494 : BitVec 32) (k1_t86 : Fin (k1_t86_loop v1492 v1494).trips) (k1_t89 : Fin (k1_t89_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t89
  let v3026 : BitVec 32 := Scalar.addi v3015 arg46
  let v3032 : Index := Scalar.indexCast v3026
  let c16_1447 : Index := 16#32
  ![v3032.toNat, 16]
def k1_off1205 (v1492 : BitVec 32) (v1494 : BitVec 32) (k1_t86 : Fin (k1_t86_loop v1492 v1494).trips) (k1_t89 : Fin (k1_t89_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t89
  let v3026 : BitVec 32 := Scalar.addi v3015 arg46
  let v3037 : Index := Scalar.indexCast v3026
  let c32_1448 : Index := 32#32
  ![v3037.toNat, 32]
def k1_off1206 (v1492 : BitVec 32) (v1494 : BitVec 32) (k1_t86 : Fin (k1_t86_loop v1492 v1494).trips) (k1_t89 : Fin (k1_t89_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t89
  let v3026 : BitVec 32 := Scalar.addi v3015 arg46
  let v3042 : Index := Scalar.indexCast v3026
  let c48_1449 : Index := 48#32
  ![v3042.toNat, 48]
def k1_off1207 (v1492 : BitVec 32) (v1494 : BitVec 32) (k1_t86 : Fin (k1_t86_loop v1492 v1494).trips) (k1_t89 : Fin (k1_t89_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t89
  let v3026 : BitVec 32 := Scalar.addi v3015 arg46
  let v3047 : Index := Scalar.indexCast v3026
  let c64_1450 : Index := 64#32
  ![v3047.toNat, 64]
def k1_off1208 (v1492 : BitVec 32) (v1494 : BitVec 32) (k1_t86 : Fin (k1_t86_loop v1492 v1494).trips) (k1_t89 : Fin (k1_t89_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t89
  let v3026 : BitVec 32 := Scalar.addi v3015 arg46
  let v3052 : Index := Scalar.indexCast v3026
  let c80_1451 : Index := 80#32
  ![v3052.toNat, 80]
def k1_off1209 (v1492 : BitVec 32) (v1494 : BitVec 32) (k1_t86 : Fin (k1_t86_loop v1492 v1494).trips) (k1_t89 : Fin (k1_t89_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t89
  let v3026 : BitVec 32 := Scalar.addi v3015 arg46
  let v3057 : Index := Scalar.indexCast v3026
  let c96_1452 : Index := 96#32
  ![v3057.toNat, 96]
def k1_off1210 (v1492 : BitVec 32) (v1494 : BitVec 32) (k1_t86 : Fin (k1_t86_loop v1492 v1494).trips) (k1_t89 : Fin (k1_t89_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t89
  let v3026 : BitVec 32 := Scalar.addi v3015 arg46
  let v3062 : Index := Scalar.indexCast v3026
  let c112_1453 : Index := 112#32
  ![v3062.toNat, 112]
def k1_off1211 (v1492 : BitVec 32) (v1494 : BitVec 32) (k1_t86 : Fin (k1_t86_loop v1492 v1494).trips) (k1_t89 : Fin (k1_t89_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t89
  let v3026 : BitVec 32 := Scalar.addi v3015 arg46
  let v3067 : Index := Scalar.indexCast v3026
  let c128_1454 : Index := 128#32
  ![v3067.toNat, 128]
def k1_off1212 (v1492 : BitVec 32) (v1494 : BitVec 32) (k1_t86 : Fin (k1_t86_loop v1492 v1494).trips) (k1_t89 : Fin (k1_t89_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t89
  let v3026 : BitVec 32 := Scalar.addi v3015 arg46
  let v3072 : Index := Scalar.indexCast v3026
  let c144_1455 : Index := 144#32
  ![v3072.toNat, 144]
def k1_off1213 (v1492 : BitVec 32) (v1494 : BitVec 32) (k1_t86 : Fin (k1_t86_loop v1492 v1494).trips) (k1_t89 : Fin (k1_t89_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t89
  let v3026 : BitVec 32 := Scalar.addi v3015 arg46
  let v3077 : Index := Scalar.indexCast v3026
  let c160_1456 : Index := 160#32
  ![v3077.toNat, 160]
def k1_off1214 (v1492 : BitVec 32) (v1494 : BitVec 32) (k1_t86 : Fin (k1_t86_loop v1492 v1494).trips) (k1_t89 : Fin (k1_t89_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t89
  let v3026 : BitVec 32 := Scalar.addi v3015 arg46
  let v3082 : Index := Scalar.indexCast v3026
  let c176_1457 : Index := 176#32
  ![v3082.toNat, 176]
def k1_off1215 (v1492 : BitVec 32) (v1494 : BitVec 32) (k1_t86 : Fin (k1_t86_loop v1492 v1494).trips) (k1_t89 : Fin (k1_t89_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t89
  let v3026 : BitVec 32 := Scalar.addi v3015 arg46
  let v3087 : Index := Scalar.indexCast v3026
  let c192_1458 : Index := 192#32
  ![v3087.toNat, 192]
def k1_off1216 (v1492 : BitVec 32) (v1494 : BitVec 32) (k1_t86 : Fin (k1_t86_loop v1492 v1494).trips) (k1_t89 : Fin (k1_t89_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t89
  let v3026 : BitVec 32 := Scalar.addi v3015 arg46
  let v3092 : Index := Scalar.indexCast v3026
  let c208_1459 : Index := 208#32
  ![v3092.toNat, 208]
def k1_off1217 (v1492 : BitVec 32) (v1494 : BitVec 32) (k1_t86 : Fin (k1_t86_loop v1492 v1494).trips) (k1_t89 : Fin (k1_t89_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t89
  let v3026 : BitVec 32 := Scalar.addi v3015 arg46
  let v3097 : Index := Scalar.indexCast v3026
  let c224_1460 : Index := 224#32
  ![v3097.toNat, 224]
def k1_off1218 (v1492 : BitVec 32) (v1494 : BitVec 32) (k1_t86 : Fin (k1_t86_loop v1492 v1494).trips) (k1_t89 : Fin (k1_t89_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t89
  let v3026 : BitVec 32 := Scalar.addi v3015 arg46
  let v3102 : Index := Scalar.indexCast v3026
  let c240_1461 : Index := 240#32
  ![v3102.toNat, 240]
@[reducible] def k1_t90_loop (v1492 : BitVec 32) (v1494 : BitVec 32) (k1_t86 : Fin (k1_t86_loop v1492 v1494).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off1219 (v1492 : BitVec 32) (v1494 : BitVec 32) (k1_t86 : Fin (k1_t86_loop v1492 v1494).trips) (k1_t90 : Fin (k1_t90_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t90
  let v3026 : BitVec 32 := Scalar.addi v3015 arg46
  let v3027 : Index := Scalar.indexCast v3026
  let c0_1446 : Index := 0#32
  ![v3027.toNat, 0]
def k1_off1220 (v1492 : BitVec 32) (v1494 : BitVec 32) (k1_t86 : Fin (k1_t86_loop v1492 v1494).trips) (k1_t90 : Fin (k1_t90_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t90
  let v3026 : BitVec 32 := Scalar.addi v3015 arg46
  let v3032 : Index := Scalar.indexCast v3026
  let c16_1447 : Index := 16#32
  ![v3032.toNat, 16]
def k1_off1221 (v1492 : BitVec 32) (v1494 : BitVec 32) (k1_t86 : Fin (k1_t86_loop v1492 v1494).trips) (k1_t90 : Fin (k1_t90_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t90
  let v3026 : BitVec 32 := Scalar.addi v3015 arg46
  let v3037 : Index := Scalar.indexCast v3026
  let c32_1448 : Index := 32#32
  ![v3037.toNat, 32]
def k1_off1222 (v1492 : BitVec 32) (v1494 : BitVec 32) (k1_t86 : Fin (k1_t86_loop v1492 v1494).trips) (k1_t90 : Fin (k1_t90_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t90
  let v3026 : BitVec 32 := Scalar.addi v3015 arg46
  let v3042 : Index := Scalar.indexCast v3026
  let c48_1449 : Index := 48#32
  ![v3042.toNat, 48]
def k1_off1223 (v1492 : BitVec 32) (v1494 : BitVec 32) (k1_t86 : Fin (k1_t86_loop v1492 v1494).trips) (k1_t90 : Fin (k1_t90_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t90
  let v3026 : BitVec 32 := Scalar.addi v3015 arg46
  let v3047 : Index := Scalar.indexCast v3026
  let c64_1450 : Index := 64#32
  ![v3047.toNat, 64]
def k1_off1224 (v1492 : BitVec 32) (v1494 : BitVec 32) (k1_t86 : Fin (k1_t86_loop v1492 v1494).trips) (k1_t90 : Fin (k1_t90_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t90
  let v3026 : BitVec 32 := Scalar.addi v3015 arg46
  let v3052 : Index := Scalar.indexCast v3026
  let c80_1451 : Index := 80#32
  ![v3052.toNat, 80]
def k1_off1225 (v1492 : BitVec 32) (v1494 : BitVec 32) (k1_t86 : Fin (k1_t86_loop v1492 v1494).trips) (k1_t90 : Fin (k1_t90_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t90
  let v3026 : BitVec 32 := Scalar.addi v3015 arg46
  let v3057 : Index := Scalar.indexCast v3026
  let c96_1452 : Index := 96#32
  ![v3057.toNat, 96]
def k1_off1226 (v1492 : BitVec 32) (v1494 : BitVec 32) (k1_t86 : Fin (k1_t86_loop v1492 v1494).trips) (k1_t90 : Fin (k1_t90_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t90
  let v3026 : BitVec 32 := Scalar.addi v3015 arg46
  let v3062 : Index := Scalar.indexCast v3026
  let c112_1453 : Index := 112#32
  ![v3062.toNat, 112]
def k1_off1227 (v1492 : BitVec 32) (v1494 : BitVec 32) (k1_t86 : Fin (k1_t86_loop v1492 v1494).trips) (k1_t90 : Fin (k1_t90_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t90
  let v3026 : BitVec 32 := Scalar.addi v3015 arg46
  let v3067 : Index := Scalar.indexCast v3026
  let c128_1454 : Index := 128#32
  ![v3067.toNat, 128]
def k1_off1228 (v1492 : BitVec 32) (v1494 : BitVec 32) (k1_t86 : Fin (k1_t86_loop v1492 v1494).trips) (k1_t90 : Fin (k1_t90_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t90
  let v3026 : BitVec 32 := Scalar.addi v3015 arg46
  let v3072 : Index := Scalar.indexCast v3026
  let c144_1455 : Index := 144#32
  ![v3072.toNat, 144]
def k1_off1229 (v1492 : BitVec 32) (v1494 : BitVec 32) (k1_t86 : Fin (k1_t86_loop v1492 v1494).trips) (k1_t90 : Fin (k1_t90_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t90
  let v3026 : BitVec 32 := Scalar.addi v3015 arg46
  let v3077 : Index := Scalar.indexCast v3026
  let c160_1456 : Index := 160#32
  ![v3077.toNat, 160]
def k1_off1230 (v1492 : BitVec 32) (v1494 : BitVec 32) (k1_t86 : Fin (k1_t86_loop v1492 v1494).trips) (k1_t90 : Fin (k1_t90_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t90
  let v3026 : BitVec 32 := Scalar.addi v3015 arg46
  let v3082 : Index := Scalar.indexCast v3026
  let c176_1457 : Index := 176#32
  ![v3082.toNat, 176]
def k1_off1231 (v1492 : BitVec 32) (v1494 : BitVec 32) (k1_t86 : Fin (k1_t86_loop v1492 v1494).trips) (k1_t90 : Fin (k1_t90_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t90
  let v3026 : BitVec 32 := Scalar.addi v3015 arg46
  let v3087 : Index := Scalar.indexCast v3026
  let c192_1458 : Index := 192#32
  ![v3087.toNat, 192]
def k1_off1232 (v1492 : BitVec 32) (v1494 : BitVec 32) (k1_t86 : Fin (k1_t86_loop v1492 v1494).trips) (k1_t90 : Fin (k1_t90_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t90
  let v3026 : BitVec 32 := Scalar.addi v3015 arg46
  let v3092 : Index := Scalar.indexCast v3026
  let c208_1459 : Index := 208#32
  ![v3092.toNat, 208]
def k1_off1233 (v1492 : BitVec 32) (v1494 : BitVec 32) (k1_t86 : Fin (k1_t86_loop v1492 v1494).trips) (k1_t90 : Fin (k1_t90_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t90
  let v3026 : BitVec 32 := Scalar.addi v3015 arg46
  let v3097 : Index := Scalar.indexCast v3026
  let c224_1460 : Index := 224#32
  ![v3097.toNat, 224]
def k1_off1234 (v1492 : BitVec 32) (v1494 : BitVec 32) (k1_t86 : Fin (k1_t86_loop v1492 v1494).trips) (k1_t90 : Fin (k1_t90_loop v1492 v1494 k1_t86).trips) : Fin 2 → Nat :=
  let c2_i32_1426 : BitVec 32 := 2#32
  let c0_i32_723 : BitVec 32 := 0#32
  let v1497 : BitVec 32 := Scalar.subi v1494 v1492
  let c64_i32_704 : BitVec 32 := 64#32
  let v1498 : BitVec 32 := Scalar.addi v1497 c64_i32_704
  let c1_i32_705 : BitVec 32 := 1#32
  let v1499 : BitVec 32 := Scalar.subi v1498 c1_i32_705
  let c0_i32_707 : BitVec 32 := 0#32
  let v1501 : BitVec 1 := Scalar.cmpi .sgt v1499 c0_i32_707
  let v1502 : BitVec 32 := Scalar.extui v1501
  let c0_i32_708 : BitVec 32 := 0#32
  let v1503 : BitVec 1 := Scalar.cmpi .slt v1499 c0_i32_708
  let v1504 : BitVec 32 := Scalar.extui v1503
  let v1505 : BitVec 32 := Scalar.subi v1502 v1504
  let c64_i32_706 : BitVec 32 := 64#32
  let c0_i32_709 : BitVec 32 := 0#32
  let v1506 : BitVec 1 := Scalar.cmpi .sgt c64_i32_706 c0_i32_709
  let v1507 : BitVec 32 := Scalar.extui v1506
  let c0_i32_710 : BitVec 32 := 0#32
  let v1508 : BitVec 1 := Scalar.cmpi .slt c64_i32_706 c0_i32_710
  let v1509 : BitVec 32 := Scalar.extui v1508
  let v1510 : BitVec 32 := Scalar.subi v1507 v1509
  let v1511 : BitVec 1 := Scalar.cmpi .ne v1505 v1510
  let v1512 : BitVec 32 := Scalar.remsi v1499 c64_i32_706
  let c0_i32_711 : BitVec 32 := 0#32
  let v1513 : BitVec 1 := Scalar.cmpi .ne v1512 c0_i32_711
  let v1514 : BitVec 1 := Scalar.andi v1511 v1513
  let v1500 : BitVec 32 := Scalar.divsi v1499 c64_i32_706
  let c1_i32_712 : BitVec 32 := 1#32
  let v1515 : BitVec 32 := Scalar.subi v1500 c1_i32_712
  let v1516 : BitVec 32 := Scalar.select v1514 v1515 v1500
  let c1_i32_715 : BitVec 32 := 1#32
  let v1520 : BitVec 32 := Scalar.addi v1516 c1_i32_715
  let c0_i32_717 : BitVec 32 := 0#32
  let v1522 : BitVec 1 := Scalar.cmpi .sgt v1520 c0_i32_717
  let v1523 : BitVec 32 := Scalar.extui v1522
  let c0_i32_718 : BitVec 32 := 0#32
  let v1524 : BitVec 1 := Scalar.cmpi .slt v1520 c0_i32_718
  let v1525 : BitVec 32 := Scalar.extui v1524
  let v1526 : BitVec 32 := Scalar.subi v1523 v1525
  let c2_i32_716 : BitVec 32 := 2#32
  let c0_i32_719 : BitVec 32 := 0#32
  let v1527 : BitVec 1 := Scalar.cmpi .sgt c2_i32_716 c0_i32_719
  let v1528 : BitVec 32 := Scalar.extui v1527
  let c0_i32_720 : BitVec 32 := 0#32
  let v1529 : BitVec 1 := Scalar.cmpi .slt c2_i32_716 c0_i32_720
  let v1530 : BitVec 32 := Scalar.extui v1529
  let v1531 : BitVec 32 := Scalar.subi v1528 v1530
  let v1532 : BitVec 1 := Scalar.cmpi .ne v1526 v1531
  let v1533 : BitVec 32 := Scalar.remsi v1520 c2_i32_716
  let c0_i32_721 : BitVec 32 := 0#32
  let v1534 : BitVec 1 := Scalar.cmpi .ne v1533 c0_i32_721
  let v1535 : BitVec 1 := Scalar.andi v1532 v1534
  let v1521 : BitVec 32 := Scalar.divsi v1520 c2_i32_716
  let c1_i32_722 : BitVec 32 := 1#32
  let v1536 : BitVec 32 := Scalar.subi v1521 c1_i32_722
  let v1537 : BitVec 32 := Scalar.select v1535 v1536 v1521
  let v1538 : BitVec 32 := Scalar.subi v1537 c0_i32_723
  let c1_i32_724 : BitVec 32 := 1#32
  let v1540 : BitVec 32 := Scalar.divsi v1538 c1_i32_724
  let v1541 : BitVec 32 := Scalar.muli v1540 c1_i32_724
  let v1542 : BitVec 32 := Scalar.addi c0_i32_723 v1541
  let c1_i32_726 : BitVec 32 := 1#32
  let arg13 : BitVec 32 := Scf.iv v1542 c1_i32_726 k1_t86
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1492 v2992
  let c64_i32_1430 : BitVec 32 := 64#32
  let v2994 : BitVec 32 := Scalar.muli v2988 c64_i32_1430
  let v2995 : BitVec 32 := Scalar.addi v1492 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1494 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t90
  let v3026 : BitVec 32 := Scalar.addi v3015 arg46
  let v3102 : Index := Scalar.indexCast v3026
  let c240_1461 : Index := 240#32
  ![v3102.toNat, 240]

def k1_chk9_0 (i : grid1.Coords) (v1492 : BitVec 32) (v1494 : BitVec 32) : Prop :=
  (∀ (k1_h73 : k1_cond73 v1492 v1494 = 1#1), ∀ a, (k1_off1098 i v1492) a + S72x256.size a ≤ S100000x512.size a) ∧
  ((k1_t81_loop v1492 v1494).OK) ∧
  (∀ k1_t81 : Fin (k1_t81_loop v1492 v1494).trips, ∀ (k1_h74 : k1_cond74 v1492 v1494 k1_t81 = 1#1), ∀ a, (k1_off1099 i v1492 v1494 k1_t81) a + S72x256.size a ≤ S100000x512.size a) ∧
  (∀ k1_t81 : Fin (k1_t81_loop v1492 v1494).trips, ∀ (k1_h74 : k1_cond74 v1492 v1494 k1_t81 = 1#1), ∀ (k1_h75 : k1_cond75 v1492 v1494 k1_t81 = 1#1), ∀ a, (k1_off1100 i v1492 v1494 k1_t81) a + S72x256.size a ≤ S100000x512.size a) ∧
  (∀ k1_t81 : Fin (k1_t81_loop v1492 v1494).trips, (k1_t82_loop v1492 v1494 k1_t81).OK) ∧
  (∀ (k1_t81 : Fin (k1_t81_loop v1492 v1494).trips) (k1_t82 : Fin (k1_t82_loop v1492 v1494 k1_t81).trips), ∀ a, (k1_off1101 v1492 v1494 k1_t81 k1_t82) a + S1x16.size a ≤ S72x256.size a) ∧
  (∀ (k1_t81 : Fin (k1_t81_loop v1492 v1494).trips) (k1_t82 : Fin (k1_t82_loop v1492 v1494 k1_t81).trips), ∀ a, (k1_off1102 v1492 v1494 k1_t81 k1_t82) a + S1x16.size a ≤ S72x256.size a) ∧
  (∀ (k1_t81 : Fin (k1_t81_loop v1492 v1494).trips) (k1_t82 : Fin (k1_t82_loop v1492 v1494 k1_t81).trips), ∀ a, (k1_off1103 v1492 v1494 k1_t81 k1_t82) a + S1x16.size a ≤ S72x256.size a) ∧
  (∀ (k1_t81 : Fin (k1_t81_loop v1492 v1494).trips) (k1_t82 : Fin (k1_t82_loop v1492 v1494 k1_t81).trips), ∀ a, (k1_off1104 v1492 v1494 k1_t81 k1_t82) a + S1x16.size a ≤ S72x256.size a) ∧
  (∀ (k1_t81 : Fin (k1_t81_loop v1492 v1494).trips) (k1_t82 : Fin (k1_t82_loop v1492 v1494 k1_t81).trips), ∀ a, (k1_off1105 v1492 v1494 k1_t81 k1_t82) a + S1x16.size a ≤ S72x256.size a) ∧
  (∀ (k1_t81 : Fin (k1_t81_loop v1492 v1494).trips) (k1_t82 : Fin (k1_t82_loop v1492 v1494 k1_t81).trips), ∀ a, (k1_off1106 v1492 v1494 k1_t81 k1_t82) a + S1x16.size a ≤ S72x256.size a) ∧
  (∀ (k1_t81 : Fin (k1_t81_loop v1492 v1494).trips) (k1_t82 : Fin (k1_t82_loop v1492 v1494 k1_t81).trips), ∀ a, (k1_off1107 v1492 v1494 k1_t81 k1_t82) a + S1x16.size a ≤ S72x256.size a) ∧
  (∀ (k1_t81 : Fin (k1_t81_loop v1492 v1494).trips) (k1_t82 : Fin (k1_t82_loop v1492 v1494 k1_t81).trips), ∀ a, (k1_off1108 v1492 v1494 k1_t81 k1_t82) a + S1x16.size a ≤ S72x256.size a) ∧
  (∀ (k1_t81 : Fin (k1_t81_loop v1492 v1494).trips) (k1_t82 : Fin (k1_t82_loop v1492 v1494 k1_t81).trips), ∀ a, (k1_off1109 v1492 v1494 k1_t81 k1_t82) a + S1x16.size a ≤ S72x256.size a) ∧
  (∀ (k1_t81 : Fin (k1_t81_loop v1492 v1494).trips) (k1_t82 : Fin (k1_t82_loop v1492 v1494 k1_t81).trips), ∀ a, (k1_off1110 v1492 v1494 k1_t81 k1_t82) a + S1x16.size a ≤ S72x256.size a) ∧
  (∀ (k1_t81 : Fin (k1_t81_loop v1492 v1494).trips) (k1_t82 : Fin (k1_t82_loop v1492 v1494 k1_t81).trips), ∀ a, (k1_off1111 v1492 v1494 k1_t81 k1_t82) a + S1x16.size a ≤ S72x256.size a) ∧
  (∀ (k1_t81 : Fin (k1_t81_loop v1492 v1494).trips) (k1_t82 : Fin (k1_t82_loop v1492 v1494 k1_t81).trips), ∀ a, (k1_off1112 v1492 v1494 k1_t81 k1_t82) a + S1x16.size a ≤ S72x256.size a) ∧
  (∀ (k1_t81 : Fin (k1_t81_loop v1492 v1494).trips) (k1_t82 : Fin (k1_t82_loop v1492 v1494 k1_t81).trips), ∀ a, (k1_off1113 v1492 v1494 k1_t81 k1_t82) a + S1x16.size a ≤ S72x256.size a) ∧
  (∀ (k1_t81 : Fin (k1_t81_loop v1492 v1494).trips) (k1_t82 : Fin (k1_t82_loop v1492 v1494 k1_t81).trips), ∀ a, (k1_off1114 v1492 v1494 k1_t81 k1_t82) a + S1x16.size a ≤ S72x256.size a) ∧
  (∀ (k1_t81 : Fin (k1_t81_loop v1492 v1494).trips) (k1_t82 : Fin (k1_t82_loop v1492 v1494 k1_t81).trips), ∀ a, (k1_off1115 v1492 v1494 k1_t81 k1_t82) a + S1x16.size a ≤ S72x256.size a) ∧
  (∀ (k1_t81 : Fin (k1_t81_loop v1492 v1494).trips) (k1_t82 : Fin (k1_t82_loop v1492 v1494 k1_t81).trips), ∀ a, (k1_off1116 v1492 v1494 k1_t81 k1_t82) a + S1x16.size a ≤ S72x256.size a) ∧
  (∀ k1_t81 : Fin (k1_t81_loop v1492 v1494).trips, (k1_t83_loop v1492 v1494 k1_t81).OK) ∧
  (∀ (k1_t81 : Fin (k1_t81_loop v1492 v1494).trips) (k1_t83 : Fin (k1_t83_loop v1492 v1494 k1_t81).trips), ∀ a, (k1_off1117 v1492 v1494 k1_t81 k1_t83) a + S1x16.size a ≤ S72x256.size a) ∧
  (∀ (k1_t81 : Fin (k1_t81_loop v1492 v1494).trips) (k1_t83 : Fin (k1_t83_loop v1492 v1494 k1_t81).trips), ∀ a, (k1_off1118 v1492 v1494 k1_t81 k1_t83) a + S1x16.size a ≤ S72x256.size a) ∧
  (∀ (k1_t81 : Fin (k1_t81_loop v1492 v1494).trips) (k1_t83 : Fin (k1_t83_loop v1492 v1494 k1_t81).trips), ∀ a, (k1_off1119 v1492 v1494 k1_t81 k1_t83) a + S1x16.size a ≤ S72x256.size a) ∧
  (∀ (k1_t81 : Fin (k1_t81_loop v1492 v1494).trips) (k1_t83 : Fin (k1_t83_loop v1492 v1494 k1_t81).trips), ∀ a, (k1_off1120 v1492 v1494 k1_t81 k1_t83) a + S1x16.size a ≤ S72x256.size a) ∧
  (∀ (k1_t81 : Fin (k1_t81_loop v1492 v1494).trips) (k1_t83 : Fin (k1_t83_loop v1492 v1494 k1_t81).trips), ∀ a, (k1_off1121 v1492 v1494 k1_t81 k1_t83) a + S1x16.size a ≤ S72x256.size a) ∧
  (∀ (k1_t81 : Fin (k1_t81_loop v1492 v1494).trips) (k1_t83 : Fin (k1_t83_loop v1492 v1494 k1_t81).trips), ∀ a, (k1_off1122 v1492 v1494 k1_t81 k1_t83) a + S1x16.size a ≤ S72x256.size a) ∧
  (∀ (k1_t81 : Fin (k1_t81_loop v1492 v1494).trips) (k1_t83 : Fin (k1_t83_loop v1492 v1494 k1_t81).trips), ∀ a, (k1_off1123 v1492 v1494 k1_t81 k1_t83) a + S1x16.size a ≤ S72x256.size a) ∧
  (∀ (k1_t81 : Fin (k1_t81_loop v1492 v1494).trips) (k1_t83 : Fin (k1_t83_loop v1492 v1494 k1_t81).trips), ∀ a, (k1_off1124 v1492 v1494 k1_t81 k1_t83) a + S1x16.size a ≤ S72x256.size a) ∧
  (∀ (k1_t81 : Fin (k1_t81_loop v1492 v1494).trips) (k1_t83 : Fin (k1_t83_loop v1492 v1494 k1_t81).trips), ∀ a, (k1_off1125 v1492 v1494 k1_t81 k1_t83) a + S1x16.size a ≤ S72x256.size a) ∧
  (∀ (k1_t81 : Fin (k1_t81_loop v1492 v1494).trips) (k1_t83 : Fin (k1_t83_loop v1492 v1494 k1_t81).trips), ∀ a, (k1_off1126 v1492 v1494 k1_t81 k1_t83) a + S1x16.size a ≤ S72x256.size a)
def k1_chk9_1 (i : grid1.Coords) (v1492 : BitVec 32) (v1494 : BitVec 32) : Prop :=
  (∀ (k1_t81 : Fin (k1_t81_loop v1492 v1494).trips) (k1_t83 : Fin (k1_t83_loop v1492 v1494 k1_t81).trips), ∀ a, (k1_off1127 v1492 v1494 k1_t81 k1_t83) a + S1x16.size a ≤ S72x256.size a) ∧
  (∀ (k1_t81 : Fin (k1_t81_loop v1492 v1494).trips) (k1_t83 : Fin (k1_t83_loop v1492 v1494 k1_t81).trips), ∀ a, (k1_off1128 v1492 v1494 k1_t81 k1_t83) a + S1x16.size a ≤ S72x256.size a) ∧
  (∀ (k1_t81 : Fin (k1_t81_loop v1492 v1494).trips) (k1_t83 : Fin (k1_t83_loop v1492 v1494 k1_t81).trips), ∀ a, (k1_off1129 v1492 v1494 k1_t81 k1_t83) a + S1x16.size a ≤ S72x256.size a) ∧
  (∀ (k1_t81 : Fin (k1_t81_loop v1492 v1494).trips) (k1_t83 : Fin (k1_t83_loop v1492 v1494 k1_t81).trips), ∀ a, (k1_off1130 v1492 v1494 k1_t81 k1_t83) a + S1x16.size a ≤ S72x256.size a) ∧
  (∀ (k1_t81 : Fin (k1_t81_loop v1492 v1494).trips) (k1_t83 : Fin (k1_t83_loop v1492 v1494 k1_t81).trips), ∀ a, (k1_off1131 v1492 v1494 k1_t81 k1_t83) a + S1x16.size a ≤ S72x256.size a) ∧
  (∀ (k1_t81 : Fin (k1_t81_loop v1492 v1494).trips) (k1_t83 : Fin (k1_t83_loop v1492 v1494 k1_t81).trips), ∀ a, (k1_off1132 v1492 v1494 k1_t81 k1_t83) a + S1x16.size a ≤ S72x256.size a) ∧
  (∀ k1_t81 : Fin (k1_t81_loop v1492 v1494).trips, ∀ (k1_h76 : k1_cond76 v1492 v1494 k1_t81 = 1#1), ∀ a, (k1_off1133 i v1492 v1494 k1_t81) a + S72x256.size a ≤ S100000x512.size a) ∧
  (∀ k1_t81 : Fin (k1_t81_loop v1492 v1494).trips, ∀ (k1_h76 : k1_cond76 v1492 v1494 k1_t81 = 1#1), ∀ (k1_h77 : k1_cond77 v1492 v1494 k1_t81 = 1#1), ∀ a, (k1_off1134 i v1492 v1494 k1_t81) a + S72x256.size a ≤ S100000x512.size a) ∧
  (∀ k1_t81 : Fin (k1_t81_loop v1492 v1494).trips, (k1_t84_loop v1492 v1494 k1_t81).OK) ∧
  (∀ (k1_t81 : Fin (k1_t81_loop v1492 v1494).trips) (k1_t84 : Fin (k1_t84_loop v1492 v1494 k1_t81).trips), ∀ a, (k1_off1135 v1492 v1494 k1_t81 k1_t84) a + S1x16.size a ≤ S72x256.size a) ∧
  (∀ (k1_t81 : Fin (k1_t81_loop v1492 v1494).trips) (k1_t84 : Fin (k1_t84_loop v1492 v1494 k1_t81).trips), ∀ a, (k1_off1136 v1492 v1494 k1_t81 k1_t84) a + S1x16.size a ≤ S72x256.size a) ∧
  (∀ (k1_t81 : Fin (k1_t81_loop v1492 v1494).trips) (k1_t84 : Fin (k1_t84_loop v1492 v1494 k1_t81).trips), ∀ a, (k1_off1137 v1492 v1494 k1_t81 k1_t84) a + S1x16.size a ≤ S72x256.size a) ∧
  (∀ (k1_t81 : Fin (k1_t81_loop v1492 v1494).trips) (k1_t84 : Fin (k1_t84_loop v1492 v1494 k1_t81).trips), ∀ a, (k1_off1138 v1492 v1494 k1_t81 k1_t84) a + S1x16.size a ≤ S72x256.size a) ∧
  (∀ (k1_t81 : Fin (k1_t81_loop v1492 v1494).trips) (k1_t84 : Fin (k1_t84_loop v1492 v1494 k1_t81).trips), ∀ a, (k1_off1139 v1492 v1494 k1_t81 k1_t84) a + S1x16.size a ≤ S72x256.size a) ∧
  (∀ (k1_t81 : Fin (k1_t81_loop v1492 v1494).trips) (k1_t84 : Fin (k1_t84_loop v1492 v1494 k1_t81).trips), ∀ a, (k1_off1140 v1492 v1494 k1_t81 k1_t84) a + S1x16.size a ≤ S72x256.size a) ∧
  (∀ (k1_t81 : Fin (k1_t81_loop v1492 v1494).trips) (k1_t84 : Fin (k1_t84_loop v1492 v1494 k1_t81).trips), ∀ a, (k1_off1141 v1492 v1494 k1_t81 k1_t84) a + S1x16.size a ≤ S72x256.size a) ∧
  (∀ (k1_t81 : Fin (k1_t81_loop v1492 v1494).trips) (k1_t84 : Fin (k1_t84_loop v1492 v1494 k1_t81).trips), ∀ a, (k1_off1142 v1492 v1494 k1_t81 k1_t84) a + S1x16.size a ≤ S72x256.size a) ∧
  (∀ (k1_t81 : Fin (k1_t81_loop v1492 v1494).trips) (k1_t84 : Fin (k1_t84_loop v1492 v1494 k1_t81).trips), ∀ a, (k1_off1143 v1492 v1494 k1_t81 k1_t84) a + S1x16.size a ≤ S72x256.size a) ∧
  (∀ (k1_t81 : Fin (k1_t81_loop v1492 v1494).trips) (k1_t84 : Fin (k1_t84_loop v1492 v1494 k1_t81).trips), ∀ a, (k1_off1144 v1492 v1494 k1_t81 k1_t84) a + S1x16.size a ≤ S72x256.size a) ∧
  (∀ (k1_t81 : Fin (k1_t81_loop v1492 v1494).trips) (k1_t84 : Fin (k1_t84_loop v1492 v1494 k1_t81).trips), ∀ a, (k1_off1145 v1492 v1494 k1_t81 k1_t84) a + S1x16.size a ≤ S72x256.size a) ∧
  (∀ (k1_t81 : Fin (k1_t81_loop v1492 v1494).trips) (k1_t84 : Fin (k1_t84_loop v1492 v1494 k1_t81).trips), ∀ a, (k1_off1146 v1492 v1494 k1_t81 k1_t84) a + S1x16.size a ≤ S72x256.size a) ∧
  (∀ (k1_t81 : Fin (k1_t81_loop v1492 v1494).trips) (k1_t84 : Fin (k1_t84_loop v1492 v1494 k1_t81).trips), ∀ a, (k1_off1147 v1492 v1494 k1_t81 k1_t84) a + S1x16.size a ≤ S72x256.size a) ∧
  (∀ (k1_t81 : Fin (k1_t81_loop v1492 v1494).trips) (k1_t84 : Fin (k1_t84_loop v1492 v1494 k1_t81).trips), ∀ a, (k1_off1148 v1492 v1494 k1_t81 k1_t84) a + S1x16.size a ≤ S72x256.size a) ∧
  (∀ (k1_t81 : Fin (k1_t81_loop v1492 v1494).trips) (k1_t84 : Fin (k1_t84_loop v1492 v1494 k1_t81).trips), ∀ a, (k1_off1149 v1492 v1494 k1_t81 k1_t84) a + S1x16.size a ≤ S72x256.size a) ∧
  (∀ (k1_t81 : Fin (k1_t81_loop v1492 v1494).trips) (k1_t84 : Fin (k1_t84_loop v1492 v1494 k1_t81).trips), ∀ a, (k1_off1150 v1492 v1494 k1_t81 k1_t84) a + S1x16.size a ≤ S72x256.size a) ∧
  (∀ k1_t81 : Fin (k1_t81_loop v1492 v1494).trips, (k1_t85_loop v1492 v1494 k1_t81).OK) ∧
  (∀ (k1_t81 : Fin (k1_t81_loop v1492 v1494).trips) (k1_t85 : Fin (k1_t85_loop v1492 v1494 k1_t81).trips), ∀ a, (k1_off1151 v1492 v1494 k1_t81 k1_t85) a + S1x16.size a ≤ S72x256.size a) ∧
  (∀ (k1_t81 : Fin (k1_t81_loop v1492 v1494).trips) (k1_t85 : Fin (k1_t85_loop v1492 v1494 k1_t81).trips), ∀ a, (k1_off1152 v1492 v1494 k1_t81 k1_t85) a + S1x16.size a ≤ S72x256.size a) ∧
  (∀ (k1_t81 : Fin (k1_t81_loop v1492 v1494).trips) (k1_t85 : Fin (k1_t85_loop v1492 v1494 k1_t81).trips), ∀ a, (k1_off1153 v1492 v1494 k1_t81 k1_t85) a + S1x16.size a ≤ S72x256.size a) ∧
  (∀ (k1_t81 : Fin (k1_t81_loop v1492 v1494).trips) (k1_t85 : Fin (k1_t85_loop v1492 v1494 k1_t81).trips), ∀ a, (k1_off1154 v1492 v1494 k1_t81 k1_t85) a + S1x16.size a ≤ S72x256.size a) ∧
  (∀ (k1_t81 : Fin (k1_t81_loop v1492 v1494).trips) (k1_t85 : Fin (k1_t85_loop v1492 v1494 k1_t81).trips), ∀ a, (k1_off1155 v1492 v1494 k1_t81 k1_t85) a + S1x16.size a ≤ S72x256.size a) ∧
  (∀ (k1_t81 : Fin (k1_t81_loop v1492 v1494).trips) (k1_t85 : Fin (k1_t85_loop v1492 v1494 k1_t81).trips), ∀ a, (k1_off1156 v1492 v1494 k1_t81 k1_t85) a + S1x16.size a ≤ S72x256.size a)
def k1_chk9_2 (i : grid1.Coords) (v1492 : BitVec 32) (v1494 : BitVec 32) : Prop :=
  (∀ (k1_t81 : Fin (k1_t81_loop v1492 v1494).trips) (k1_t85 : Fin (k1_t85_loop v1492 v1494 k1_t81).trips), ∀ a, (k1_off1157 v1492 v1494 k1_t81 k1_t85) a + S1x16.size a ≤ S72x256.size a) ∧
  (∀ (k1_t81 : Fin (k1_t81_loop v1492 v1494).trips) (k1_t85 : Fin (k1_t85_loop v1492 v1494 k1_t81).trips), ∀ a, (k1_off1158 v1492 v1494 k1_t81 k1_t85) a + S1x16.size a ≤ S72x256.size a) ∧
  (∀ (k1_t81 : Fin (k1_t81_loop v1492 v1494).trips) (k1_t85 : Fin (k1_t85_loop v1492 v1494 k1_t81).trips), ∀ a, (k1_off1159 v1492 v1494 k1_t81 k1_t85) a + S1x16.size a ≤ S72x256.size a) ∧
  (∀ (k1_t81 : Fin (k1_t81_loop v1492 v1494).trips) (k1_t85 : Fin (k1_t85_loop v1492 v1494 k1_t81).trips), ∀ a, (k1_off1160 v1492 v1494 k1_t81 k1_t85) a + S1x16.size a ≤ S72x256.size a) ∧
  (∀ (k1_t81 : Fin (k1_t81_loop v1492 v1494).trips) (k1_t85 : Fin (k1_t85_loop v1492 v1494 k1_t81).trips), ∀ a, (k1_off1161 v1492 v1494 k1_t81 k1_t85) a + S1x16.size a ≤ S72x256.size a) ∧
  (∀ (k1_t81 : Fin (k1_t81_loop v1492 v1494).trips) (k1_t85 : Fin (k1_t85_loop v1492 v1494 k1_t81).trips), ∀ a, (k1_off1162 v1492 v1494 k1_t81 k1_t85) a + S1x16.size a ≤ S72x256.size a) ∧
  (∀ (k1_t81 : Fin (k1_t81_loop v1492 v1494).trips) (k1_t85 : Fin (k1_t85_loop v1492 v1494 k1_t81).trips), ∀ a, (k1_off1163 v1492 v1494 k1_t81 k1_t85) a + S1x16.size a ≤ S72x256.size a) ∧
  (∀ (k1_t81 : Fin (k1_t81_loop v1492 v1494).trips) (k1_t85 : Fin (k1_t85_loop v1492 v1494 k1_t81).trips), ∀ a, (k1_off1164 v1492 v1494 k1_t81 k1_t85) a + S1x16.size a ≤ S72x256.size a) ∧
  (∀ (k1_t81 : Fin (k1_t81_loop v1492 v1494).trips) (k1_t85 : Fin (k1_t85_loop v1492 v1494 k1_t81).trips), ∀ a, (k1_off1165 v1492 v1494 k1_t81 k1_t85) a + S1x16.size a ≤ S72x256.size a) ∧
  (∀ (k1_t81 : Fin (k1_t81_loop v1492 v1494).trips) (k1_t85 : Fin (k1_t85_loop v1492 v1494 k1_t81).trips), ∀ a, (k1_off1166 v1492 v1494 k1_t81 k1_t85) a + S1x16.size a ≤ S72x256.size a) ∧
  ((k1_t86_loop v1492 v1494).OK) ∧
  (∀ k1_t86 : Fin (k1_t86_loop v1492 v1494).trips, ∀ (k1_h78 : k1_cond78 v1492 v1494 k1_t86 = 1#1), ∀ a, (k1_off1167 i v1492 v1494 k1_t86) a + S72x256.size a ≤ S100000x512.size a) ∧
  (∀ k1_t86 : Fin (k1_t86_loop v1492 v1494).trips, ∀ (k1_h78 : k1_cond78 v1492 v1494 k1_t86 = 1#1), ∀ (k1_h79 : k1_cond79 v1492 v1494 k1_t86 = 1#1), ∀ a, (k1_off1168 i v1492 v1494 k1_t86) a + S72x256.size a ≤ S100000x512.size a) ∧
  (∀ k1_t86 : Fin (k1_t86_loop v1492 v1494).trips, (k1_t87_loop v1492 v1494 k1_t86).OK) ∧
  (∀ (k1_t86 : Fin (k1_t86_loop v1492 v1494).trips) (k1_t87 : Fin (k1_t87_loop v1492 v1494 k1_t86).trips), ∀ a, (k1_off1169 v1492 v1494 k1_t86 k1_t87) a + S1x16.size a ≤ S72x256.size a) ∧
  (∀ (k1_t86 : Fin (k1_t86_loop v1492 v1494).trips) (k1_t87 : Fin (k1_t87_loop v1492 v1494 k1_t86).trips), ∀ a, (k1_off1170 v1492 v1494 k1_t86 k1_t87) a + S1x16.size a ≤ S72x256.size a) ∧
  (∀ (k1_t86 : Fin (k1_t86_loop v1492 v1494).trips) (k1_t87 : Fin (k1_t87_loop v1492 v1494 k1_t86).trips), ∀ a, (k1_off1171 v1492 v1494 k1_t86 k1_t87) a + S1x16.size a ≤ S72x256.size a) ∧
  (∀ (k1_t86 : Fin (k1_t86_loop v1492 v1494).trips) (k1_t87 : Fin (k1_t87_loop v1492 v1494 k1_t86).trips), ∀ a, (k1_off1172 v1492 v1494 k1_t86 k1_t87) a + S1x16.size a ≤ S72x256.size a) ∧
  (∀ (k1_t86 : Fin (k1_t86_loop v1492 v1494).trips) (k1_t87 : Fin (k1_t87_loop v1492 v1494 k1_t86).trips), ∀ a, (k1_off1173 v1492 v1494 k1_t86 k1_t87) a + S1x16.size a ≤ S72x256.size a) ∧
  (∀ (k1_t86 : Fin (k1_t86_loop v1492 v1494).trips) (k1_t87 : Fin (k1_t87_loop v1492 v1494 k1_t86).trips), ∀ a, (k1_off1174 v1492 v1494 k1_t86 k1_t87) a + S1x16.size a ≤ S72x256.size a) ∧
  (∀ (k1_t86 : Fin (k1_t86_loop v1492 v1494).trips) (k1_t87 : Fin (k1_t87_loop v1492 v1494 k1_t86).trips), ∀ a, (k1_off1175 v1492 v1494 k1_t86 k1_t87) a + S1x16.size a ≤ S72x256.size a) ∧
  (∀ (k1_t86 : Fin (k1_t86_loop v1492 v1494).trips) (k1_t87 : Fin (k1_t87_loop v1492 v1494 k1_t86).trips), ∀ a, (k1_off1176 v1492 v1494 k1_t86 k1_t87) a + S1x16.size a ≤ S72x256.size a) ∧
  (∀ (k1_t86 : Fin (k1_t86_loop v1492 v1494).trips) (k1_t87 : Fin (k1_t87_loop v1492 v1494 k1_t86).trips), ∀ a, (k1_off1177 v1492 v1494 k1_t86 k1_t87) a + S1x16.size a ≤ S72x256.size a) ∧
  (∀ (k1_t86 : Fin (k1_t86_loop v1492 v1494).trips) (k1_t87 : Fin (k1_t87_loop v1492 v1494 k1_t86).trips), ∀ a, (k1_off1178 v1492 v1494 k1_t86 k1_t87) a + S1x16.size a ≤ S72x256.size a) ∧
  (∀ (k1_t86 : Fin (k1_t86_loop v1492 v1494).trips) (k1_t87 : Fin (k1_t87_loop v1492 v1494 k1_t86).trips), ∀ a, (k1_off1179 v1492 v1494 k1_t86 k1_t87) a + S1x16.size a ≤ S72x256.size a) ∧
  (∀ (k1_t86 : Fin (k1_t86_loop v1492 v1494).trips) (k1_t87 : Fin (k1_t87_loop v1492 v1494 k1_t86).trips), ∀ a, (k1_off1180 v1492 v1494 k1_t86 k1_t87) a + S1x16.size a ≤ S72x256.size a) ∧
  (∀ (k1_t86 : Fin (k1_t86_loop v1492 v1494).trips) (k1_t87 : Fin (k1_t87_loop v1492 v1494 k1_t86).trips), ∀ a, (k1_off1181 v1492 v1494 k1_t86 k1_t87) a + S1x16.size a ≤ S72x256.size a) ∧
  (∀ (k1_t86 : Fin (k1_t86_loop v1492 v1494).trips) (k1_t87 : Fin (k1_t87_loop v1492 v1494 k1_t86).trips), ∀ a, (k1_off1182 v1492 v1494 k1_t86 k1_t87) a + S1x16.size a ≤ S72x256.size a) ∧
  (∀ (k1_t86 : Fin (k1_t86_loop v1492 v1494).trips) (k1_t87 : Fin (k1_t87_loop v1492 v1494 k1_t86).trips), ∀ a, (k1_off1183 v1492 v1494 k1_t86 k1_t87) a + S1x16.size a ≤ S72x256.size a) ∧
  (∀ (k1_t86 : Fin (k1_t86_loop v1492 v1494).trips) (k1_t87 : Fin (k1_t87_loop v1492 v1494 k1_t86).trips), ∀ a, (k1_off1184 v1492 v1494 k1_t86 k1_t87) a + S1x16.size a ≤ S72x256.size a) ∧
  (∀ k1_t86 : Fin (k1_t86_loop v1492 v1494).trips, (k1_t88_loop v1492 v1494 k1_t86).OK) ∧
  (∀ (k1_t86 : Fin (k1_t86_loop v1492 v1494).trips) (k1_t88 : Fin (k1_t88_loop v1492 v1494 k1_t86).trips), ∀ a, (k1_off1185 v1492 v1494 k1_t86 k1_t88) a + S1x16.size a ≤ S72x256.size a)
def k1_chk9_3 (i : grid1.Coords) (v1492 : BitVec 32) (v1494 : BitVec 32) : Prop :=
  (∀ (k1_t86 : Fin (k1_t86_loop v1492 v1494).trips) (k1_t88 : Fin (k1_t88_loop v1492 v1494 k1_t86).trips), ∀ a, (k1_off1186 v1492 v1494 k1_t86 k1_t88) a + S1x16.size a ≤ S72x256.size a) ∧
  (∀ (k1_t86 : Fin (k1_t86_loop v1492 v1494).trips) (k1_t88 : Fin (k1_t88_loop v1492 v1494 k1_t86).trips), ∀ a, (k1_off1187 v1492 v1494 k1_t86 k1_t88) a + S1x16.size a ≤ S72x256.size a) ∧
  (∀ (k1_t86 : Fin (k1_t86_loop v1492 v1494).trips) (k1_t88 : Fin (k1_t88_loop v1492 v1494 k1_t86).trips), ∀ a, (k1_off1188 v1492 v1494 k1_t86 k1_t88) a + S1x16.size a ≤ S72x256.size a) ∧
  (∀ (k1_t86 : Fin (k1_t86_loop v1492 v1494).trips) (k1_t88 : Fin (k1_t88_loop v1492 v1494 k1_t86).trips), ∀ a, (k1_off1189 v1492 v1494 k1_t86 k1_t88) a + S1x16.size a ≤ S72x256.size a) ∧
  (∀ (k1_t86 : Fin (k1_t86_loop v1492 v1494).trips) (k1_t88 : Fin (k1_t88_loop v1492 v1494 k1_t86).trips), ∀ a, (k1_off1190 v1492 v1494 k1_t86 k1_t88) a + S1x16.size a ≤ S72x256.size a) ∧
  (∀ (k1_t86 : Fin (k1_t86_loop v1492 v1494).trips) (k1_t88 : Fin (k1_t88_loop v1492 v1494 k1_t86).trips), ∀ a, (k1_off1191 v1492 v1494 k1_t86 k1_t88) a + S1x16.size a ≤ S72x256.size a) ∧
  (∀ (k1_t86 : Fin (k1_t86_loop v1492 v1494).trips) (k1_t88 : Fin (k1_t88_loop v1492 v1494 k1_t86).trips), ∀ a, (k1_off1192 v1492 v1494 k1_t86 k1_t88) a + S1x16.size a ≤ S72x256.size a) ∧
  (∀ (k1_t86 : Fin (k1_t86_loop v1492 v1494).trips) (k1_t88 : Fin (k1_t88_loop v1492 v1494 k1_t86).trips), ∀ a, (k1_off1193 v1492 v1494 k1_t86 k1_t88) a + S1x16.size a ≤ S72x256.size a) ∧
  (∀ (k1_t86 : Fin (k1_t86_loop v1492 v1494).trips) (k1_t88 : Fin (k1_t88_loop v1492 v1494 k1_t86).trips), ∀ a, (k1_off1194 v1492 v1494 k1_t86 k1_t88) a + S1x16.size a ≤ S72x256.size a) ∧
  (∀ (k1_t86 : Fin (k1_t86_loop v1492 v1494).trips) (k1_t88 : Fin (k1_t88_loop v1492 v1494 k1_t86).trips), ∀ a, (k1_off1195 v1492 v1494 k1_t86 k1_t88) a + S1x16.size a ≤ S72x256.size a) ∧
  (∀ (k1_t86 : Fin (k1_t86_loop v1492 v1494).trips) (k1_t88 : Fin (k1_t88_loop v1492 v1494 k1_t86).trips), ∀ a, (k1_off1196 v1492 v1494 k1_t86 k1_t88) a + S1x16.size a ≤ S72x256.size a) ∧
  (∀ (k1_t86 : Fin (k1_t86_loop v1492 v1494).trips) (k1_t88 : Fin (k1_t88_loop v1492 v1494 k1_t86).trips), ∀ a, (k1_off1197 v1492 v1494 k1_t86 k1_t88) a + S1x16.size a ≤ S72x256.size a) ∧
  (∀ (k1_t86 : Fin (k1_t86_loop v1492 v1494).trips) (k1_t88 : Fin (k1_t88_loop v1492 v1494 k1_t86).trips), ∀ a, (k1_off1198 v1492 v1494 k1_t86 k1_t88) a + S1x16.size a ≤ S72x256.size a) ∧
  (∀ (k1_t86 : Fin (k1_t86_loop v1492 v1494).trips) (k1_t88 : Fin (k1_t88_loop v1492 v1494 k1_t86).trips), ∀ a, (k1_off1199 v1492 v1494 k1_t86 k1_t88) a + S1x16.size a ≤ S72x256.size a) ∧
  (∀ (k1_t86 : Fin (k1_t86_loop v1492 v1494).trips) (k1_t88 : Fin (k1_t88_loop v1492 v1494 k1_t86).trips), ∀ a, (k1_off1200 v1492 v1494 k1_t86 k1_t88) a + S1x16.size a ≤ S72x256.size a) ∧
  (∀ k1_t86 : Fin (k1_t86_loop v1492 v1494).trips, ∀ (k1_h80 : k1_cond80 v1492 v1494 k1_t86 = 1#1), ∀ a, (k1_off1201 i v1492 v1494 k1_t86) a + S72x256.size a ≤ S100000x512.size a) ∧
  (∀ k1_t86 : Fin (k1_t86_loop v1492 v1494).trips, ∀ (k1_h80 : k1_cond80 v1492 v1494 k1_t86 = 1#1), ∀ (k1_h81 : k1_cond81 v1492 v1494 k1_t86 = 1#1), ∀ a, (k1_off1202 i v1492 v1494 k1_t86) a + S72x256.size a ≤ S100000x512.size a) ∧
  (∀ k1_t86 : Fin (k1_t86_loop v1492 v1494).trips, (k1_t89_loop v1492 v1494 k1_t86).OK) ∧
  (∀ (k1_t86 : Fin (k1_t86_loop v1492 v1494).trips) (k1_t89 : Fin (k1_t89_loop v1492 v1494 k1_t86).trips), ∀ a, (k1_off1203 v1492 v1494 k1_t86 k1_t89) a + S1x16.size a ≤ S72x256.size a) ∧
  (∀ (k1_t86 : Fin (k1_t86_loop v1492 v1494).trips) (k1_t89 : Fin (k1_t89_loop v1492 v1494 k1_t86).trips), ∀ a, (k1_off1204 v1492 v1494 k1_t86 k1_t89) a + S1x16.size a ≤ S72x256.size a) ∧
  (∀ (k1_t86 : Fin (k1_t86_loop v1492 v1494).trips) (k1_t89 : Fin (k1_t89_loop v1492 v1494 k1_t86).trips), ∀ a, (k1_off1205 v1492 v1494 k1_t86 k1_t89) a + S1x16.size a ≤ S72x256.size a) ∧
  (∀ (k1_t86 : Fin (k1_t86_loop v1492 v1494).trips) (k1_t89 : Fin (k1_t89_loop v1492 v1494 k1_t86).trips), ∀ a, (k1_off1206 v1492 v1494 k1_t86 k1_t89) a + S1x16.size a ≤ S72x256.size a) ∧
  (∀ (k1_t86 : Fin (k1_t86_loop v1492 v1494).trips) (k1_t89 : Fin (k1_t89_loop v1492 v1494 k1_t86).trips), ∀ a, (k1_off1207 v1492 v1494 k1_t86 k1_t89) a + S1x16.size a ≤ S72x256.size a) ∧
  (∀ (k1_t86 : Fin (k1_t86_loop v1492 v1494).trips) (k1_t89 : Fin (k1_t89_loop v1492 v1494 k1_t86).trips), ∀ a, (k1_off1208 v1492 v1494 k1_t86 k1_t89) a + S1x16.size a ≤ S72x256.size a) ∧
  (∀ (k1_t86 : Fin (k1_t86_loop v1492 v1494).trips) (k1_t89 : Fin (k1_t89_loop v1492 v1494 k1_t86).trips), ∀ a, (k1_off1209 v1492 v1494 k1_t86 k1_t89) a + S1x16.size a ≤ S72x256.size a) ∧
  (∀ (k1_t86 : Fin (k1_t86_loop v1492 v1494).trips) (k1_t89 : Fin (k1_t89_loop v1492 v1494 k1_t86).trips), ∀ a, (k1_off1210 v1492 v1494 k1_t86 k1_t89) a + S1x16.size a ≤ S72x256.size a) ∧
  (∀ (k1_t86 : Fin (k1_t86_loop v1492 v1494).trips) (k1_t89 : Fin (k1_t89_loop v1492 v1494 k1_t86).trips), ∀ a, (k1_off1211 v1492 v1494 k1_t86 k1_t89) a + S1x16.size a ≤ S72x256.size a) ∧
  (∀ (k1_t86 : Fin (k1_t86_loop v1492 v1494).trips) (k1_t89 : Fin (k1_t89_loop v1492 v1494 k1_t86).trips), ∀ a, (k1_off1212 v1492 v1494 k1_t86 k1_t89) a + S1x16.size a ≤ S72x256.size a) ∧
  (∀ (k1_t86 : Fin (k1_t86_loop v1492 v1494).trips) (k1_t89 : Fin (k1_t89_loop v1492 v1494 k1_t86).trips), ∀ a, (k1_off1213 v1492 v1494 k1_t86 k1_t89) a + S1x16.size a ≤ S72x256.size a) ∧
  (∀ (k1_t86 : Fin (k1_t86_loop v1492 v1494).trips) (k1_t89 : Fin (k1_t89_loop v1492 v1494 k1_t86).trips), ∀ a, (k1_off1214 v1492 v1494 k1_t86 k1_t89) a + S1x16.size a ≤ S72x256.size a) ∧
  (∀ (k1_t86 : Fin (k1_t86_loop v1492 v1494).trips) (k1_t89 : Fin (k1_t89_loop v1492 v1494 k1_t86).trips), ∀ a, (k1_off1215 v1492 v1494 k1_t86 k1_t89) a + S1x16.size a ≤ S72x256.size a) ∧
  (∀ (k1_t86 : Fin (k1_t86_loop v1492 v1494).trips) (k1_t89 : Fin (k1_t89_loop v1492 v1494 k1_t86).trips), ∀ a, (k1_off1216 v1492 v1494 k1_t86 k1_t89) a + S1x16.size a ≤ S72x256.size a)
def k1_chk9_4 (i : grid1.Coords) (v1492 : BitVec 32) (v1494 : BitVec 32) : Prop :=
  (∀ (k1_t86 : Fin (k1_t86_loop v1492 v1494).trips) (k1_t89 : Fin (k1_t89_loop v1492 v1494 k1_t86).trips), ∀ a, (k1_off1217 v1492 v1494 k1_t86 k1_t89) a + S1x16.size a ≤ S72x256.size a) ∧
  (∀ (k1_t86 : Fin (k1_t86_loop v1492 v1494).trips) (k1_t89 : Fin (k1_t89_loop v1492 v1494 k1_t86).trips), ∀ a, (k1_off1218 v1492 v1494 k1_t86 k1_t89) a + S1x16.size a ≤ S72x256.size a) ∧
  (∀ k1_t86 : Fin (k1_t86_loop v1492 v1494).trips, (k1_t90_loop v1492 v1494 k1_t86).OK) ∧
  (∀ (k1_t86 : Fin (k1_t86_loop v1492 v1494).trips) (k1_t90 : Fin (k1_t90_loop v1492 v1494 k1_t86).trips), ∀ a, (k1_off1219 v1492 v1494 k1_t86 k1_t90) a + S1x16.size a ≤ S72x256.size a) ∧
  (∀ (k1_t86 : Fin (k1_t86_loop v1492 v1494).trips) (k1_t90 : Fin (k1_t90_loop v1492 v1494 k1_t86).trips), ∀ a, (k1_off1220 v1492 v1494 k1_t86 k1_t90) a + S1x16.size a ≤ S72x256.size a) ∧
  (∀ (k1_t86 : Fin (k1_t86_loop v1492 v1494).trips) (k1_t90 : Fin (k1_t90_loop v1492 v1494 k1_t86).trips), ∀ a, (k1_off1221 v1492 v1494 k1_t86 k1_t90) a + S1x16.size a ≤ S72x256.size a) ∧
  (∀ (k1_t86 : Fin (k1_t86_loop v1492 v1494).trips) (k1_t90 : Fin (k1_t90_loop v1492 v1494 k1_t86).trips), ∀ a, (k1_off1222 v1492 v1494 k1_t86 k1_t90) a + S1x16.size a ≤ S72x256.size a) ∧
  (∀ (k1_t86 : Fin (k1_t86_loop v1492 v1494).trips) (k1_t90 : Fin (k1_t90_loop v1492 v1494 k1_t86).trips), ∀ a, (k1_off1223 v1492 v1494 k1_t86 k1_t90) a + S1x16.size a ≤ S72x256.size a) ∧
  (∀ (k1_t86 : Fin (k1_t86_loop v1492 v1494).trips) (k1_t90 : Fin (k1_t90_loop v1492 v1494 k1_t86).trips), ∀ a, (k1_off1224 v1492 v1494 k1_t86 k1_t90) a + S1x16.size a ≤ S72x256.size a) ∧
  (∀ (k1_t86 : Fin (k1_t86_loop v1492 v1494).trips) (k1_t90 : Fin (k1_t90_loop v1492 v1494 k1_t86).trips), ∀ a, (k1_off1225 v1492 v1494 k1_t86 k1_t90) a + S1x16.size a ≤ S72x256.size a) ∧
  (∀ (k1_t86 : Fin (k1_t86_loop v1492 v1494).trips) (k1_t90 : Fin (k1_t90_loop v1492 v1494 k1_t86).trips), ∀ a, (k1_off1226 v1492 v1494 k1_t86 k1_t90) a + S1x16.size a ≤ S72x256.size a) ∧
  (∀ (k1_t86 : Fin (k1_t86_loop v1492 v1494).trips) (k1_t90 : Fin (k1_t90_loop v1492 v1494 k1_t86).trips), ∀ a, (k1_off1227 v1492 v1494 k1_t86 k1_t90) a + S1x16.size a ≤ S72x256.size a) ∧
  (∀ (k1_t86 : Fin (k1_t86_loop v1492 v1494).trips) (k1_t90 : Fin (k1_t90_loop v1492 v1494 k1_t86).trips), ∀ a, (k1_off1228 v1492 v1494 k1_t86 k1_t90) a + S1x16.size a ≤ S72x256.size a) ∧
  (∀ (k1_t86 : Fin (k1_t86_loop v1492 v1494).trips) (k1_t90 : Fin (k1_t90_loop v1492 v1494 k1_t86).trips), ∀ a, (k1_off1229 v1492 v1494 k1_t86 k1_t90) a + S1x16.size a ≤ S72x256.size a) ∧
  (∀ (k1_t86 : Fin (k1_t86_loop v1492 v1494).trips) (k1_t90 : Fin (k1_t90_loop v1492 v1494 k1_t86).trips), ∀ a, (k1_off1230 v1492 v1494 k1_t86 k1_t90) a + S1x16.size a ≤ S72x256.size a) ∧
  (∀ (k1_t86 : Fin (k1_t86_loop v1492 v1494).trips) (k1_t90 : Fin (k1_t90_loop v1492 v1494 k1_t86).trips), ∀ a, (k1_off1231 v1492 v1494 k1_t86 k1_t90) a + S1x16.size a ≤ S72x256.size a) ∧
  (∀ (k1_t86 : Fin (k1_t86_loop v1492 v1494).trips) (k1_t90 : Fin (k1_t90_loop v1492 v1494 k1_t86).trips), ∀ a, (k1_off1232 v1492 v1494 k1_t86 k1_t90) a + S1x16.size a ≤ S72x256.size a) ∧
  (∀ (k1_t86 : Fin (k1_t86_loop v1492 v1494).trips) (k1_t90 : Fin (k1_t90_loop v1492 v1494 k1_t86).trips), ∀ a, (k1_off1233 v1492 v1494 k1_t86 k1_t90) a + S1x16.size a ≤ S72x256.size a) ∧
  (∀ (k1_t86 : Fin (k1_t86_loop v1492 v1494).trips) (k1_t90 : Fin (k1_t90_loop v1492 v1494 k1_t86).trips), ∀ a, (k1_off1234 v1492 v1494 k1_t86 k1_t90) a + S1x16.size a ≤ S72x256.size a)
def k1_chk9 (i : grid1.Coords) (v1492 : BitVec 32) (v1494 : BitVec 32) : Prop :=
  k1_chk9_0 i v1492 v1494 ∧
  k1_chk9_1 i v1492 v1494 ∧
  k1_chk9_2 i v1492 v1494 ∧
  k1_chk9_3 i v1492 v1494 ∧
  k1_chk9_4 i v1492 v1494
theorem k1_off1098_inb : ∀ (i : grid1.Coords) (v1492 : BitVec 32) (v1494 : BitVec 32) (k1_hw9 : k1_chk9 i v1492 v1494), ∀ (k1_h73 : k1_cond73 v1492 v1494 = 1#1), ∀ a, (k1_off1098 i v1492) a + S72x256.size a ≤ S100000x512.size a := fun i v1492 v1494 k1_hw9 k1_h73 => k1_hw9.1.1 k1_h73
theorem k1_t81_ok : ∀ (i : grid1.Coords) (v1492 : BitVec 32) (v1494 : BitVec 32) (k1_hw9 : k1_chk9 i v1492 v1494), (k1_t81_loop v1492 v1494).OK := fun i v1492 v1494 k1_hw9 => k1_hw9.1.2.1
theorem k1_off1099_inb : ∀ (i : grid1.Coords) (v1492 : BitVec 32) (v1494 : BitVec 32) (k1_hw9 : k1_chk9 i v1492 v1494) (k1_t81 : Fin (k1_t81_loop v1492 v1494).trips), ∀ (k1_h74 : k1_cond74 v1492 v1494 k1_t81 = 1#1), ∀ a, (k1_off1099 i v1492 v1494 k1_t81) a + S72x256.size a ≤ S100000x512.size a := fun i v1492 v1494 k1_hw9 k1_t81 k1_h74 => k1_hw9.1.2.2.1 k1_t81 k1_h74
theorem k1_off1100_inb : ∀ (i : grid1.Coords) (v1492 : BitVec 32) (v1494 : BitVec 32) (k1_hw9 : k1_chk9 i v1492 v1494) (k1_t81 : Fin (k1_t81_loop v1492 v1494).trips), ∀ (k1_h74 : k1_cond74 v1492 v1494 k1_t81 = 1#1), ∀ (k1_h75 : k1_cond75 v1492 v1494 k1_t81 = 1#1), ∀ a, (k1_off1100 i v1492 v1494 k1_t81) a + S72x256.size a ≤ S100000x512.size a := fun i v1492 v1494 k1_hw9 k1_t81 k1_h74 k1_h75 => k1_hw9.1.2.2.2.1 k1_t81 k1_h74 k1_h75
theorem k1_t82_ok : ∀ (i : grid1.Coords) (v1492 : BitVec 32) (v1494 : BitVec 32) (k1_hw9 : k1_chk9 i v1492 v1494) (k1_t81 : Fin (k1_t81_loop v1492 v1494).trips), (k1_t82_loop v1492 v1494 k1_t81).OK := fun i v1492 v1494 k1_hw9 k1_t81 => k1_hw9.1.2.2.2.2.1 k1_t81
theorem k1_off1101_inb : ∀ (i : grid1.Coords) (v1492 : BitVec 32) (v1494 : BitVec 32) (k1_hw9 : k1_chk9 i v1492 v1494) (k1_t81 : Fin (k1_t81_loop v1492 v1494).trips) (k1_t82 : Fin (k1_t82_loop v1492 v1494 k1_t81).trips), ∀ a, (k1_off1101 v1492 v1494 k1_t81 k1_t82) a + S1x16.size a ≤ S72x256.size a := fun i v1492 v1494 k1_hw9 k1_t81 k1_t82 => k1_hw9.1.2.2.2.2.2.1 k1_t81 k1_t82
theorem k1_off1102_inb : ∀ (i : grid1.Coords) (v1492 : BitVec 32) (v1494 : BitVec 32) (k1_hw9 : k1_chk9 i v1492 v1494) (k1_t81 : Fin (k1_t81_loop v1492 v1494).trips) (k1_t82 : Fin (k1_t82_loop v1492 v1494 k1_t81).trips), ∀ a, (k1_off1102 v1492 v1494 k1_t81 k1_t82) a + S1x16.size a ≤ S72x256.size a := fun i v1492 v1494 k1_hw9 k1_t81 k1_t82 => k1_hw9.1.2.2.2.2.2.2.1 k1_t81 k1_t82
theorem k1_off1103_inb : ∀ (i : grid1.Coords) (v1492 : BitVec 32) (v1494 : BitVec 32) (k1_hw9 : k1_chk9 i v1492 v1494) (k1_t81 : Fin (k1_t81_loop v1492 v1494).trips) (k1_t82 : Fin (k1_t82_loop v1492 v1494 k1_t81).trips), ∀ a, (k1_off1103 v1492 v1494 k1_t81 k1_t82) a + S1x16.size a ≤ S72x256.size a := fun i v1492 v1494 k1_hw9 k1_t81 k1_t82 => k1_hw9.1.2.2.2.2.2.2.2.1 k1_t81 k1_t82
theorem k1_off1104_inb : ∀ (i : grid1.Coords) (v1492 : BitVec 32) (v1494 : BitVec 32) (k1_hw9 : k1_chk9 i v1492 v1494) (k1_t81 : Fin (k1_t81_loop v1492 v1494).trips) (k1_t82 : Fin (k1_t82_loop v1492 v1494 k1_t81).trips), ∀ a, (k1_off1104 v1492 v1494 k1_t81 k1_t82) a + S1x16.size a ≤ S72x256.size a := fun i v1492 v1494 k1_hw9 k1_t81 k1_t82 => k1_hw9.1.2.2.2.2.2.2.2.2.1 k1_t81 k1_t82
theorem k1_off1105_inb : ∀ (i : grid1.Coords) (v1492 : BitVec 32) (v1494 : BitVec 32) (k1_hw9 : k1_chk9 i v1492 v1494) (k1_t81 : Fin (k1_t81_loop v1492 v1494).trips) (k1_t82 : Fin (k1_t82_loop v1492 v1494 k1_t81).trips), ∀ a, (k1_off1105 v1492 v1494 k1_t81 k1_t82) a + S1x16.size a ≤ S72x256.size a := fun i v1492 v1494 k1_hw9 k1_t81 k1_t82 => k1_hw9.1.2.2.2.2.2.2.2.2.2.1 k1_t81 k1_t82
theorem k1_off1106_inb : ∀ (i : grid1.Coords) (v1492 : BitVec 32) (v1494 : BitVec 32) (k1_hw9 : k1_chk9 i v1492 v1494) (k1_t81 : Fin (k1_t81_loop v1492 v1494).trips) (k1_t82 : Fin (k1_t82_loop v1492 v1494 k1_t81).trips), ∀ a, (k1_off1106 v1492 v1494 k1_t81 k1_t82) a + S1x16.size a ≤ S72x256.size a := fun i v1492 v1494 k1_hw9 k1_t81 k1_t82 => k1_hw9.1.2.2.2.2.2.2.2.2.2.2.1 k1_t81 k1_t82
theorem k1_off1107_inb : ∀ (i : grid1.Coords) (v1492 : BitVec 32) (v1494 : BitVec 32) (k1_hw9 : k1_chk9 i v1492 v1494) (k1_t81 : Fin (k1_t81_loop v1492 v1494).trips) (k1_t82 : Fin (k1_t82_loop v1492 v1494 k1_t81).trips), ∀ a, (k1_off1107 v1492 v1494 k1_t81 k1_t82) a + S1x16.size a ≤ S72x256.size a := fun i v1492 v1494 k1_hw9 k1_t81 k1_t82 => k1_hw9.1.2.2.2.2.2.2.2.2.2.2.2.1 k1_t81 k1_t82
theorem k1_off1108_inb : ∀ (i : grid1.Coords) (v1492 : BitVec 32) (v1494 : BitVec 32) (k1_hw9 : k1_chk9 i v1492 v1494) (k1_t81 : Fin (k1_t81_loop v1492 v1494).trips) (k1_t82 : Fin (k1_t82_loop v1492 v1494 k1_t81).trips), ∀ a, (k1_off1108 v1492 v1494 k1_t81 k1_t82) a + S1x16.size a ≤ S72x256.size a := fun i v1492 v1494 k1_hw9 k1_t81 k1_t82 => k1_hw9.1.2.2.2.2.2.2.2.2.2.2.2.2.1 k1_t81 k1_t82
theorem k1_off1109_inb : ∀ (i : grid1.Coords) (v1492 : BitVec 32) (v1494 : BitVec 32) (k1_hw9 : k1_chk9 i v1492 v1494) (k1_t81 : Fin (k1_t81_loop v1492 v1494).trips) (k1_t82 : Fin (k1_t82_loop v1492 v1494 k1_t81).trips), ∀ a, (k1_off1109 v1492 v1494 k1_t81 k1_t82) a + S1x16.size a ≤ S72x256.size a := fun i v1492 v1494 k1_hw9 k1_t81 k1_t82 => k1_hw9.1.2.2.2.2.2.2.2.2.2.2.2.2.2.1 k1_t81 k1_t82
theorem k1_off1110_inb : ∀ (i : grid1.Coords) (v1492 : BitVec 32) (v1494 : BitVec 32) (k1_hw9 : k1_chk9 i v1492 v1494) (k1_t81 : Fin (k1_t81_loop v1492 v1494).trips) (k1_t82 : Fin (k1_t82_loop v1492 v1494 k1_t81).trips), ∀ a, (k1_off1110 v1492 v1494 k1_t81 k1_t82) a + S1x16.size a ≤ S72x256.size a := fun i v1492 v1494 k1_hw9 k1_t81 k1_t82 => k1_hw9.1.2.2.2.2.2.2.2.2.2.2.2.2.2.2.1 k1_t81 k1_t82
theorem k1_off1111_inb : ∀ (i : grid1.Coords) (v1492 : BitVec 32) (v1494 : BitVec 32) (k1_hw9 : k1_chk9 i v1492 v1494) (k1_t81 : Fin (k1_t81_loop v1492 v1494).trips) (k1_t82 : Fin (k1_t82_loop v1492 v1494 k1_t81).trips), ∀ a, (k1_off1111 v1492 v1494 k1_t81 k1_t82) a + S1x16.size a ≤ S72x256.size a := fun i v1492 v1494 k1_hw9 k1_t81 k1_t82 => k1_hw9.1.2.2.2.2.2.2.2.2.2.2.2.2.2.2.2.1 k1_t81 k1_t82
theorem k1_off1112_inb : ∀ (i : grid1.Coords) (v1492 : BitVec 32) (v1494 : BitVec 32) (k1_hw9 : k1_chk9 i v1492 v1494) (k1_t81 : Fin (k1_t81_loop v1492 v1494).trips) (k1_t82 : Fin (k1_t82_loop v1492 v1494 k1_t81).trips), ∀ a, (k1_off1112 v1492 v1494 k1_t81 k1_t82) a + S1x16.size a ≤ S72x256.size a := fun i v1492 v1494 k1_hw9 k1_t81 k1_t82 => k1_hw9.1.2.2.2.2.2.2.2.2.2.2.2.2.2.2.2.2.1 k1_t81 k1_t82
theorem k1_off1113_inb : ∀ (i : grid1.Coords) (v1492 : BitVec 32) (v1494 : BitVec 32) (k1_hw9 : k1_chk9 i v1492 v1494) (k1_t81 : Fin (k1_t81_loop v1492 v1494).trips) (k1_t82 : Fin (k1_t82_loop v1492 v1494 k1_t81).trips), ∀ a, (k1_off1113 v1492 v1494 k1_t81 k1_t82) a + S1x16.size a ≤ S72x256.size a := fun i v1492 v1494 k1_hw9 k1_t81 k1_t82 => k1_hw9.1.2.2.2.2.2.2.2.2.2.2.2.2.2.2.2.2.2.1 k1_t81 k1_t82
theorem k1_off1114_inb : ∀ (i : grid1.Coords) (v1492 : BitVec 32) (v1494 : BitVec 32) (k1_hw9 : k1_chk9 i v1492 v1494) (k1_t81 : Fin (k1_t81_loop v1492 v1494).trips) (k1_t82 : Fin (k1_t82_loop v1492 v1494 k1_t81).trips), ∀ a, (k1_off1114 v1492 v1494 k1_t81 k1_t82) a + S1x16.size a ≤ S72x256.size a := fun i v1492 v1494 k1_hw9 k1_t81 k1_t82 => k1_hw9.1.2.2.2.2.2.2.2.2.2.2.2.2.2.2.2.2.2.2.1 k1_t81 k1_t82
theorem k1_off1115_inb : ∀ (i : grid1.Coords) (v1492 : BitVec 32) (v1494 : BitVec 32) (k1_hw9 : k1_chk9 i v1492 v1494) (k1_t81 : Fin (k1_t81_loop v1492 v1494).trips) (k1_t82 : Fin (k1_t82_loop v1492 v1494 k1_t81).trips), ∀ a, (k1_off1115 v1492 v1494 k1_t81 k1_t82) a + S1x16.size a ≤ S72x256.size a := fun i v1492 v1494 k1_hw9 k1_t81 k1_t82 => k1_hw9.1.2.2.2.2.2.2.2.2.2.2.2.2.2.2.2.2.2.2.2.1 k1_t81 k1_t82
theorem k1_off1116_inb : ∀ (i : grid1.Coords) (v1492 : BitVec 32) (v1494 : BitVec 32) (k1_hw9 : k1_chk9 i v1492 v1494) (k1_t81 : Fin (k1_t81_loop v1492 v1494).trips) (k1_t82 : Fin (k1_t82_loop v1492 v1494 k1_t81).trips), ∀ a, (k1_off1116 v1492 v1494 k1_t81 k1_t82) a + S1x16.size a ≤ S72x256.size a := fun i v1492 v1494 k1_hw9 k1_t81 k1_t82 => k1_hw9.1.2.2.2.2.2.2.2.2.2.2.2.2.2.2.2.2.2.2.2.2.1 k1_t81 k1_t82
theorem k1_t83_ok : ∀ (i : grid1.Coords) (v1492 : BitVec 32) (v1494 : BitVec 32) (k1_hw9 : k1_chk9 i v1492 v1494) (k1_t81 : Fin (k1_t81_loop v1492 v1494).trips), (k1_t83_loop v1492 v1494 k1_t81).OK := fun i v1492 v1494 k1_hw9 k1_t81 => k1_hw9.1.2.2.2.2.2.2.2.2.2.2.2.2.2.2.2.2.2.2.2.2.2.1 k1_t81
theorem k1_off1117_inb : ∀ (i : grid1.Coords) (v1492 : BitVec 32) (v1494 : BitVec 32) (k1_hw9 : k1_chk9 i v1492 v1494) (k1_t81 : Fin (k1_t81_loop v1492 v1494).trips) (k1_t83 : Fin (k1_t83_loop v1492 v1494 k1_t81).trips), ∀ a, (k1_off1117 v1492 v1494 k1_t81 k1_t83) a + S1x16.size a ≤ S72x256.size a := fun i v1492 v1494 k1_hw9 k1_t81 k1_t83 => k1_hw9.1.2.2.2.2.2.2.2.2.2.2.2.2.2.2.2.2.2.2.2.2.2.2.1 k1_t81 k1_t83
theorem k1_off1118_inb : ∀ (i : grid1.Coords) (v1492 : BitVec 32) (v1494 : BitVec 32) (k1_hw9 : k1_chk9 i v1492 v1494) (k1_t81 : Fin (k1_t81_loop v1492 v1494).trips) (k1_t83 : Fin (k1_t83_loop v1492 v1494 k1_t81).trips), ∀ a, (k1_off1118 v1492 v1494 k1_t81 k1_t83) a + S1x16.size a ≤ S72x256.size a := fun i v1492 v1494 k1_hw9 k1_t81 k1_t83 => k1_hw9.1.2.2.2.2.2.2.2.2.2.2.2.2.2.2.2.2.2.2.2.2.2.2.2.1 k1_t81 k1_t83
theorem k1_off1119_inb : ∀ (i : grid1.Coords) (v1492 : BitVec 32) (v1494 : BitVec 32) (k1_hw9 : k1_chk9 i v1492 v1494) (k1_t81 : Fin (k1_t81_loop v1492 v1494).trips) (k1_t83 : Fin (k1_t83_loop v1492 v1494 k1_t81).trips), ∀ a, (k1_off1119 v1492 v1494 k1_t81 k1_t83) a + S1x16.size a ≤ S72x256.size a := fun i v1492 v1494 k1_hw9 k1_t81 k1_t83 => k1_hw9.1.2.2.2.2.2.2.2.2.2.2.2.2.2.2.2.2.2.2.2.2.2.2.2.2.1 k1_t81 k1_t83
theorem k1_off1120_inb : ∀ (i : grid1.Coords) (v1492 : BitVec 32) (v1494 : BitVec 32) (k1_hw9 : k1_chk9 i v1492 v1494) (k1_t81 : Fin (k1_t81_loop v1492 v1494).trips) (k1_t83 : Fin (k1_t83_loop v1492 v1494 k1_t81).trips), ∀ a, (k1_off1120 v1492 v1494 k1_t81 k1_t83) a + S1x16.size a ≤ S72x256.size a := fun i v1492 v1494 k1_hw9 k1_t81 k1_t83 => k1_hw9.1.2.2.2.2.2.2.2.2.2.2.2.2.2.2.2.2.2.2.2.2.2.2.2.2.2.1 k1_t81 k1_t83
theorem k1_off1121_inb : ∀ (i : grid1.Coords) (v1492 : BitVec 32) (v1494 : BitVec 32) (k1_hw9 : k1_chk9 i v1492 v1494) (k1_t81 : Fin (k1_t81_loop v1492 v1494).trips) (k1_t83 : Fin (k1_t83_loop v1492 v1494 k1_t81).trips), ∀ a, (k1_off1121 v1492 v1494 k1_t81 k1_t83) a + S1x16.size a ≤ S72x256.size a := fun i v1492 v1494 k1_hw9 k1_t81 k1_t83 => k1_hw9.1.2.2.2.2.2.2.2.2.2.2.2.2.2.2.2.2.2.2.2.2.2.2.2.2.2.2.1 k1_t81 k1_t83
theorem k1_off1122_inb : ∀ (i : grid1.Coords) (v1492 : BitVec 32) (v1494 : BitVec 32) (k1_hw9 : k1_chk9 i v1492 v1494) (k1_t81 : Fin (k1_t81_loop v1492 v1494).trips) (k1_t83 : Fin (k1_t83_loop v1492 v1494 k1_t81).trips), ∀ a, (k1_off1122 v1492 v1494 k1_t81 k1_t83) a + S1x16.size a ≤ S72x256.size a := fun i v1492 v1494 k1_hw9 k1_t81 k1_t83 => k1_hw9.1.2.2.2.2.2.2.2.2.2.2.2.2.2.2.2.2.2.2.2.2.2.2.2.2.2.2.2.1 k1_t81 k1_t83
theorem k1_off1123_inb : ∀ (i : grid1.Coords) (v1492 : BitVec 32) (v1494 : BitVec 32) (k1_hw9 : k1_chk9 i v1492 v1494) (k1_t81 : Fin (k1_t81_loop v1492 v1494).trips) (k1_t83 : Fin (k1_t83_loop v1492 v1494 k1_t81).trips), ∀ a, (k1_off1123 v1492 v1494 k1_t81 k1_t83) a + S1x16.size a ≤ S72x256.size a := fun i v1492 v1494 k1_hw9 k1_t81 k1_t83 => k1_hw9.1.2.2.2.2.2.2.2.2.2.2.2.2.2.2.2.2.2.2.2.2.2.2.2.2.2.2.2.2.1 k1_t81 k1_t83
theorem k1_off1124_inb : ∀ (i : grid1.Coords) (v1492 : BitVec 32) (v1494 : BitVec 32) (k1_hw9 : k1_chk9 i v1492 v1494) (k1_t81 : Fin (k1_t81_loop v1492 v1494).trips) (k1_t83 : Fin (k1_t83_loop v1492 v1494 k1_t81).trips), ∀ a, (k1_off1124 v1492 v1494 k1_t81 k1_t83) a + S1x16.size a ≤ S72x256.size a := fun i v1492 v1494 k1_hw9 k1_t81 k1_t83 => k1_hw9.1.2.2.2.2.2.2.2.2.2.2.2.2.2.2.2.2.2.2.2.2.2.2.2.2.2.2.2.2.2.1 k1_t81 k1_t83
theorem k1_off1125_inb : ∀ (i : grid1.Coords) (v1492 : BitVec 32) (v1494 : BitVec 32) (k1_hw9 : k1_chk9 i v1492 v1494) (k1_t81 : Fin (k1_t81_loop v1492 v1494).trips) (k1_t83 : Fin (k1_t83_loop v1492 v1494 k1_t81).trips), ∀ a, (k1_off1125 v1492 v1494 k1_t81 k1_t83) a + S1x16.size a ≤ S72x256.size a := fun i v1492 v1494 k1_hw9 k1_t81 k1_t83 => k1_hw9.1.2.2.2.2.2.2.2.2.2.2.2.2.2.2.2.2.2.2.2.2.2.2.2.2.2.2.2.2.2.2.1 k1_t81 k1_t83
theorem k1_off1126_inb : ∀ (i : grid1.Coords) (v1492 : BitVec 32) (v1494 : BitVec 32) (k1_hw9 : k1_chk9 i v1492 v1494) (k1_t81 : Fin (k1_t81_loop v1492 v1494).trips) (k1_t83 : Fin (k1_t83_loop v1492 v1494 k1_t81).trips), ∀ a, (k1_off1126 v1492 v1494 k1_t81 k1_t83) a + S1x16.size a ≤ S72x256.size a := fun i v1492 v1494 k1_hw9 k1_t81 k1_t83 => k1_hw9.1.2.2.2.2.2.2.2.2.2.2.2.2.2.2.2.2.2.2.2.2.2.2.2.2.2.2.2.2.2.2.2 k1_t81 k1_t83
theorem k1_off1127_inb : ∀ (i : grid1.Coords) (v1492 : BitVec 32) (v1494 : BitVec 32) (k1_hw9 : k1_chk9 i v1492 v1494) (k1_t81 : Fin (k1_t81_loop v1492 v1494).trips) (k1_t83 : Fin (k1_t83_loop v1492 v1494 k1_t81).trips), ∀ a, (k1_off1127 v1492 v1494 k1_t81 k1_t83) a + S1x16.size a ≤ S72x256.size a := fun i v1492 v1494 k1_hw9 k1_t81 k1_t83 => k1_hw9.2.1.1 k1_t81 k1_t83
theorem k1_off1128_inb : ∀ (i : grid1.Coords) (v1492 : BitVec 32) (v1494 : BitVec 32) (k1_hw9 : k1_chk9 i v1492 v1494) (k1_t81 : Fin (k1_t81_loop v1492 v1494).trips) (k1_t83 : Fin (k1_t83_loop v1492 v1494 k1_t81).trips), ∀ a, (k1_off1128 v1492 v1494 k1_t81 k1_t83) a + S1x16.size a ≤ S72x256.size a := fun i v1492 v1494 k1_hw9 k1_t81 k1_t83 => k1_hw9.2.1.2.1 k1_t81 k1_t83
theorem k1_off1129_inb : ∀ (i : grid1.Coords) (v1492 : BitVec 32) (v1494 : BitVec 32) (k1_hw9 : k1_chk9 i v1492 v1494) (k1_t81 : Fin (k1_t81_loop v1492 v1494).trips) (k1_t83 : Fin (k1_t83_loop v1492 v1494 k1_t81).trips), ∀ a, (k1_off1129 v1492 v1494 k1_t81 k1_t83) a + S1x16.size a ≤ S72x256.size a := fun i v1492 v1494 k1_hw9 k1_t81 k1_t83 => k1_hw9.2.1.2.2.1 k1_t81 k1_t83
theorem k1_off1130_inb : ∀ (i : grid1.Coords) (v1492 : BitVec 32) (v1494 : BitVec 32) (k1_hw9 : k1_chk9 i v1492 v1494) (k1_t81 : Fin (k1_t81_loop v1492 v1494).trips) (k1_t83 : Fin (k1_t83_loop v1492 v1494 k1_t81).trips), ∀ a, (k1_off1130 v1492 v1494 k1_t81 k1_t83) a + S1x16.size a ≤ S72x256.size a := fun i v1492 v1494 k1_hw9 k1_t81 k1_t83 => k1_hw9.2.1.2.2.2.1 k1_t81 k1_t83
theorem k1_off1131_inb : ∀ (i : grid1.Coords) (v1492 : BitVec 32) (v1494 : BitVec 32) (k1_hw9 : k1_chk9 i v1492 v1494) (k1_t81 : Fin (k1_t81_loop v1492 v1494).trips) (k1_t83 : Fin (k1_t83_loop v1492 v1494 k1_t81).trips), ∀ a, (k1_off1131 v1492 v1494 k1_t81 k1_t83) a + S1x16.size a ≤ S72x256.size a := fun i v1492 v1494 k1_hw9 k1_t81 k1_t83 => k1_hw9.2.1.2.2.2.2.1 k1_t81 k1_t83
theorem k1_off1132_inb : ∀ (i : grid1.Coords) (v1492 : BitVec 32) (v1494 : BitVec 32) (k1_hw9 : k1_chk9 i v1492 v1494) (k1_t81 : Fin (k1_t81_loop v1492 v1494).trips) (k1_t83 : Fin (k1_t83_loop v1492 v1494 k1_t81).trips), ∀ a, (k1_off1132 v1492 v1494 k1_t81 k1_t83) a + S1x16.size a ≤ S72x256.size a := fun i v1492 v1494 k1_hw9 k1_t81 k1_t83 => k1_hw9.2.1.2.2.2.2.2.1 k1_t81 k1_t83
theorem k1_off1133_inb : ∀ (i : grid1.Coords) (v1492 : BitVec 32) (v1494 : BitVec 32) (k1_hw9 : k1_chk9 i v1492 v1494) (k1_t81 : Fin (k1_t81_loop v1492 v1494).trips), ∀ (k1_h76 : k1_cond76 v1492 v1494 k1_t81 = 1#1), ∀ a, (k1_off1133 i v1492 v1494 k1_t81) a + S72x256.size a ≤ S100000x512.size a := fun i v1492 v1494 k1_hw9 k1_t81 k1_h76 => k1_hw9.2.1.2.2.2.2.2.2.1 k1_t81 k1_h76
theorem k1_off1134_inb : ∀ (i : grid1.Coords) (v1492 : BitVec 32) (v1494 : BitVec 32) (k1_hw9 : k1_chk9 i v1492 v1494) (k1_t81 : Fin (k1_t81_loop v1492 v1494).trips), ∀ (k1_h76 : k1_cond76 v1492 v1494 k1_t81 = 1#1), ∀ (k1_h77 : k1_cond77 v1492 v1494 k1_t81 = 1#1), ∀ a, (k1_off1134 i v1492 v1494 k1_t81) a + S72x256.size a ≤ S100000x512.size a := fun i v1492 v1494 k1_hw9 k1_t81 k1_h76 k1_h77 => k1_hw9.2.1.2.2.2.2.2.2.2.1 k1_t81 k1_h76 k1_h77
theorem k1_t84_ok : ∀ (i : grid1.Coords) (v1492 : BitVec 32) (v1494 : BitVec 32) (k1_hw9 : k1_chk9 i v1492 v1494) (k1_t81 : Fin (k1_t81_loop v1492 v1494).trips), (k1_t84_loop v1492 v1494 k1_t81).OK := fun i v1492 v1494 k1_hw9 k1_t81 => k1_hw9.2.1.2.2.2.2.2.2.2.2.1 k1_t81
theorem k1_off1135_inb : ∀ (i : grid1.Coords) (v1492 : BitVec 32) (v1494 : BitVec 32) (k1_hw9 : k1_chk9 i v1492 v1494) (k1_t81 : Fin (k1_t81_loop v1492 v1494).trips) (k1_t84 : Fin (k1_t84_loop v1492 v1494 k1_t81).trips), ∀ a, (k1_off1135 v1492 v1494 k1_t81 k1_t84) a + S1x16.size a ≤ S72x256.size a := fun i v1492 v1494 k1_hw9 k1_t81 k1_t84 => k1_hw9.2.1.2.2.2.2.2.2.2.2.2.1 k1_t81 k1_t84
theorem k1_off1136_inb : ∀ (i : grid1.Coords) (v1492 : BitVec 32) (v1494 : BitVec 32) (k1_hw9 : k1_chk9 i v1492 v1494) (k1_t81 : Fin (k1_t81_loop v1492 v1494).trips) (k1_t84 : Fin (k1_t84_loop v1492 v1494 k1_t81).trips), ∀ a, (k1_off1136 v1492 v1494 k1_t81 k1_t84) a + S1x16.size a ≤ S72x256.size a := fun i v1492 v1494 k1_hw9 k1_t81 k1_t84 => k1_hw9.2.1.2.2.2.2.2.2.2.2.2.2.1 k1_t81 k1_t84
theorem k1_off1137_inb : ∀ (i : grid1.Coords) (v1492 : BitVec 32) (v1494 : BitVec 32) (k1_hw9 : k1_chk9 i v1492 v1494) (k1_t81 : Fin (k1_t81_loop v1492 v1494).trips) (k1_t84 : Fin (k1_t84_loop v1492 v1494 k1_t81).trips), ∀ a, (k1_off1137 v1492 v1494 k1_t81 k1_t84) a + S1x16.size a ≤ S72x256.size a := fun i v1492 v1494 k1_hw9 k1_t81 k1_t84 => k1_hw9.2.1.2.2.2.2.2.2.2.2.2.2.2.1 k1_t81 k1_t84
theorem k1_off1138_inb : ∀ (i : grid1.Coords) (v1492 : BitVec 32) (v1494 : BitVec 32) (k1_hw9 : k1_chk9 i v1492 v1494) (k1_t81 : Fin (k1_t81_loop v1492 v1494).trips) (k1_t84 : Fin (k1_t84_loop v1492 v1494 k1_t81).trips), ∀ a, (k1_off1138 v1492 v1494 k1_t81 k1_t84) a + S1x16.size a ≤ S72x256.size a := fun i v1492 v1494 k1_hw9 k1_t81 k1_t84 => k1_hw9.2.1.2.2.2.2.2.2.2.2.2.2.2.2.1 k1_t81 k1_t84
theorem k1_off1139_inb : ∀ (i : grid1.Coords) (v1492 : BitVec 32) (v1494 : BitVec 32) (k1_hw9 : k1_chk9 i v1492 v1494) (k1_t81 : Fin (k1_t81_loop v1492 v1494).trips) (k1_t84 : Fin (k1_t84_loop v1492 v1494 k1_t81).trips), ∀ a, (k1_off1139 v1492 v1494 k1_t81 k1_t84) a + S1x16.size a ≤ S72x256.size a := fun i v1492 v1494 k1_hw9 k1_t81 k1_t84 => k1_hw9.2.1.2.2.2.2.2.2.2.2.2.2.2.2.2.1 k1_t81 k1_t84
theorem k1_off1140_inb : ∀ (i : grid1.Coords) (v1492 : BitVec 32) (v1494 : BitVec 32) (k1_hw9 : k1_chk9 i v1492 v1494) (k1_t81 : Fin (k1_t81_loop v1492 v1494).trips) (k1_t84 : Fin (k1_t84_loop v1492 v1494 k1_t81).trips), ∀ a, (k1_off1140 v1492 v1494 k1_t81 k1_t84) a + S1x16.size a ≤ S72x256.size a := fun i v1492 v1494 k1_hw9 k1_t81 k1_t84 => k1_hw9.2.1.2.2.2.2.2.2.2.2.2.2.2.2.2.2.1 k1_t81 k1_t84
theorem k1_off1141_inb : ∀ (i : grid1.Coords) (v1492 : BitVec 32) (v1494 : BitVec 32) (k1_hw9 : k1_chk9 i v1492 v1494) (k1_t81 : Fin (k1_t81_loop v1492 v1494).trips) (k1_t84 : Fin (k1_t84_loop v1492 v1494 k1_t81).trips), ∀ a, (k1_off1141 v1492 v1494 k1_t81 k1_t84) a + S1x16.size a ≤ S72x256.size a := fun i v1492 v1494 k1_hw9 k1_t81 k1_t84 => k1_hw9.2.1.2.2.2.2.2.2.2.2.2.2.2.2.2.2.2.1 k1_t81 k1_t84
theorem k1_off1142_inb : ∀ (i : grid1.Coords) (v1492 : BitVec 32) (v1494 : BitVec 32) (k1_hw9 : k1_chk9 i v1492 v1494) (k1_t81 : Fin (k1_t81_loop v1492 v1494).trips) (k1_t84 : Fin (k1_t84_loop v1492 v1494 k1_t81).trips), ∀ a, (k1_off1142 v1492 v1494 k1_t81 k1_t84) a + S1x16.size a ≤ S72x256.size a := fun i v1492 v1494 k1_hw9 k1_t81 k1_t84 => k1_hw9.2.1.2.2.2.2.2.2.2.2.2.2.2.2.2.2.2.2.1 k1_t81 k1_t84
theorem k1_off1143_inb : ∀ (i : grid1.Coords) (v1492 : BitVec 32) (v1494 : BitVec 32) (k1_hw9 : k1_chk9 i v1492 v1494) (k1_t81 : Fin (k1_t81_loop v1492 v1494).trips) (k1_t84 : Fin (k1_t84_loop v1492 v1494 k1_t81).trips), ∀ a, (k1_off1143 v1492 v1494 k1_t81 k1_t84) a + S1x16.size a ≤ S72x256.size a := fun i v1492 v1494 k1_hw9 k1_t81 k1_t84 => k1_hw9.2.1.2.2.2.2.2.2.2.2.2.2.2.2.2.2.2.2.2.1 k1_t81 k1_t84
theorem k1_off1144_inb : ∀ (i : grid1.Coords) (v1492 : BitVec 32) (v1494 : BitVec 32) (k1_hw9 : k1_chk9 i v1492 v1494) (k1_t81 : Fin (k1_t81_loop v1492 v1494).trips) (k1_t84 : Fin (k1_t84_loop v1492 v1494 k1_t81).trips), ∀ a, (k1_off1144 v1492 v1494 k1_t81 k1_t84) a + S1x16.size a ≤ S72x256.size a := fun i v1492 v1494 k1_hw9 k1_t81 k1_t84 => k1_hw9.2.1.2.2.2.2.2.2.2.2.2.2.2.2.2.2.2.2.2.2.1 k1_t81 k1_t84
theorem k1_off1145_inb : ∀ (i : grid1.Coords) (v1492 : BitVec 32) (v1494 : BitVec 32) (k1_hw9 : k1_chk9 i v1492 v1494) (k1_t81 : Fin (k1_t81_loop v1492 v1494).trips) (k1_t84 : Fin (k1_t84_loop v1492 v1494 k1_t81).trips), ∀ a, (k1_off1145 v1492 v1494 k1_t81 k1_t84) a + S1x16.size a ≤ S72x256.size a := fun i v1492 v1494 k1_hw9 k1_t81 k1_t84 => k1_hw9.2.1.2.2.2.2.2.2.2.2.2.2.2.2.2.2.2.2.2.2.2.1 k1_t81 k1_t84
theorem k1_off1146_inb : ∀ (i : grid1.Coords) (v1492 : BitVec 32) (v1494 : BitVec 32) (k1_hw9 : k1_chk9 i v1492 v1494) (k1_t81 : Fin (k1_t81_loop v1492 v1494).trips) (k1_t84 : Fin (k1_t84_loop v1492 v1494 k1_t81).trips), ∀ a, (k1_off1146 v1492 v1494 k1_t81 k1_t84) a + S1x16.size a ≤ S72x256.size a := fun i v1492 v1494 k1_hw9 k1_t81 k1_t84 => k1_hw9.2.1.2.2.2.2.2.2.2.2.2.2.2.2.2.2.2.2.2.2.2.2.1 k1_t81 k1_t84
theorem k1_off1147_inb : ∀ (i : grid1.Coords) (v1492 : BitVec 32) (v1494 : BitVec 32) (k1_hw9 : k1_chk9 i v1492 v1494) (k1_t81 : Fin (k1_t81_loop v1492 v1494).trips) (k1_t84 : Fin (k1_t84_loop v1492 v1494 k1_t81).trips), ∀ a, (k1_off1147 v1492 v1494 k1_t81 k1_t84) a + S1x16.size a ≤ S72x256.size a := fun i v1492 v1494 k1_hw9 k1_t81 k1_t84 => k1_hw9.2.1.2.2.2.2.2.2.2.2.2.2.2.2.2.2.2.2.2.2.2.2.2.1 k1_t81 k1_t84
theorem k1_off1148_inb : ∀ (i : grid1.Coords) (v1492 : BitVec 32) (v1494 : BitVec 32) (k1_hw9 : k1_chk9 i v1492 v1494) (k1_t81 : Fin (k1_t81_loop v1492 v1494).trips) (k1_t84 : Fin (k1_t84_loop v1492 v1494 k1_t81).trips), ∀ a, (k1_off1148 v1492 v1494 k1_t81 k1_t84) a + S1x16.size a ≤ S72x256.size a := fun i v1492 v1494 k1_hw9 k1_t81 k1_t84 => k1_hw9.2.1.2.2.2.2.2.2.2.2.2.2.2.2.2.2.2.2.2.2.2.2.2.2.1 k1_t81 k1_t84
theorem k1_off1149_inb : ∀ (i : grid1.Coords) (v1492 : BitVec 32) (v1494 : BitVec 32) (k1_hw9 : k1_chk9 i v1492 v1494) (k1_t81 : Fin (k1_t81_loop v1492 v1494).trips) (k1_t84 : Fin (k1_t84_loop v1492 v1494 k1_t81).trips), ∀ a, (k1_off1149 v1492 v1494 k1_t81 k1_t84) a + S1x16.size a ≤ S72x256.size a := fun i v1492 v1494 k1_hw9 k1_t81 k1_t84 => k1_hw9.2.1.2.2.2.2.2.2.2.2.2.2.2.2.2.2.2.2.2.2.2.2.2.2.2.1 k1_t81 k1_t84
theorem k1_off1150_inb : ∀ (i : grid1.Coords) (v1492 : BitVec 32) (v1494 : BitVec 32) (k1_hw9 : k1_chk9 i v1492 v1494) (k1_t81 : Fin (k1_t81_loop v1492 v1494).trips) (k1_t84 : Fin (k1_t84_loop v1492 v1494 k1_t81).trips), ∀ a, (k1_off1150 v1492 v1494 k1_t81 k1_t84) a + S1x16.size a ≤ S72x256.size a := fun i v1492 v1494 k1_hw9 k1_t81 k1_t84 => k1_hw9.2.1.2.2.2.2.2.2.2.2.2.2.2.2.2.2.2.2.2.2.2.2.2.2.2.2.1 k1_t81 k1_t84
theorem k1_t85_ok : ∀ (i : grid1.Coords) (v1492 : BitVec 32) (v1494 : BitVec 32) (k1_hw9 : k1_chk9 i v1492 v1494) (k1_t81 : Fin (k1_t81_loop v1492 v1494).trips), (k1_t85_loop v1492 v1494 k1_t81).OK := fun i v1492 v1494 k1_hw9 k1_t81 => k1_hw9.2.1.2.2.2.2.2.2.2.2.2.2.2.2.2.2.2.2.2.2.2.2.2.2.2.2.2.1 k1_t81
theorem k1_off1151_inb : ∀ (i : grid1.Coords) (v1492 : BitVec 32) (v1494 : BitVec 32) (k1_hw9 : k1_chk9 i v1492 v1494) (k1_t81 : Fin (k1_t81_loop v1492 v1494).trips) (k1_t85 : Fin (k1_t85_loop v1492 v1494 k1_t81).trips), ∀ a, (k1_off1151 v1492 v1494 k1_t81 k1_t85) a + S1x16.size a ≤ S72x256.size a := fun i v1492 v1494 k1_hw9 k1_t81 k1_t85 => k1_hw9.2.1.2.2.2.2.2.2.2.2.2.2.2.2.2.2.2.2.2.2.2.2.2.2.2.2.2.2.1 k1_t81 k1_t85
theorem k1_off1152_inb : ∀ (i : grid1.Coords) (v1492 : BitVec 32) (v1494 : BitVec 32) (k1_hw9 : k1_chk9 i v1492 v1494) (k1_t81 : Fin (k1_t81_loop v1492 v1494).trips) (k1_t85 : Fin (k1_t85_loop v1492 v1494 k1_t81).trips), ∀ a, (k1_off1152 v1492 v1494 k1_t81 k1_t85) a + S1x16.size a ≤ S72x256.size a := fun i v1492 v1494 k1_hw9 k1_t81 k1_t85 => k1_hw9.2.1.2.2.2.2.2.2.2.2.2.2.2.2.2.2.2.2.2.2.2.2.2.2.2.2.2.2.2.1 k1_t81 k1_t85
theorem k1_off1153_inb : ∀ (i : grid1.Coords) (v1492 : BitVec 32) (v1494 : BitVec 32) (k1_hw9 : k1_chk9 i v1492 v1494) (k1_t81 : Fin (k1_t81_loop v1492 v1494).trips) (k1_t85 : Fin (k1_t85_loop v1492 v1494 k1_t81).trips), ∀ a, (k1_off1153 v1492 v1494 k1_t81 k1_t85) a + S1x16.size a ≤ S72x256.size a := fun i v1492 v1494 k1_hw9 k1_t81 k1_t85 => k1_hw9.2.1.2.2.2.2.2.2.2.2.2.2.2.2.2.2.2.2.2.2.2.2.2.2.2.2.2.2.2.2.1 k1_t81 k1_t85
theorem k1_off1154_inb : ∀ (i : grid1.Coords) (v1492 : BitVec 32) (v1494 : BitVec 32) (k1_hw9 : k1_chk9 i v1492 v1494) (k1_t81 : Fin (k1_t81_loop v1492 v1494).trips) (k1_t85 : Fin (k1_t85_loop v1492 v1494 k1_t81).trips), ∀ a, (k1_off1154 v1492 v1494 k1_t81 k1_t85) a + S1x16.size a ≤ S72x256.size a := fun i v1492 v1494 k1_hw9 k1_t81 k1_t85 => k1_hw9.2.1.2.2.2.2.2.2.2.2.2.2.2.2.2.2.2.2.2.2.2.2.2.2.2.2.2.2.2.2.2.1 k1_t81 k1_t85
theorem k1_off1155_inb : ∀ (i : grid1.Coords) (v1492 : BitVec 32) (v1494 : BitVec 32) (k1_hw9 : k1_chk9 i v1492 v1494) (k1_t81 : Fin (k1_t81_loop v1492 v1494).trips) (k1_t85 : Fin (k1_t85_loop v1492 v1494 k1_t81).trips), ∀ a, (k1_off1155 v1492 v1494 k1_t81 k1_t85) a + S1x16.size a ≤ S72x256.size a := fun i v1492 v1494 k1_hw9 k1_t81 k1_t85 => k1_hw9.2.1.2.2.2.2.2.2.2.2.2.2.2.2.2.2.2.2.2.2.2.2.2.2.2.2.2.2.2.2.2.2.1 k1_t81 k1_t85
theorem k1_off1156_inb : ∀ (i : grid1.Coords) (v1492 : BitVec 32) (v1494 : BitVec 32) (k1_hw9 : k1_chk9 i v1492 v1494) (k1_t81 : Fin (k1_t81_loop v1492 v1494).trips) (k1_t85 : Fin (k1_t85_loop v1492 v1494 k1_t81).trips), ∀ a, (k1_off1156 v1492 v1494 k1_t81 k1_t85) a + S1x16.size a ≤ S72x256.size a := fun i v1492 v1494 k1_hw9 k1_t81 k1_t85 => k1_hw9.2.1.2.2.2.2.2.2.2.2.2.2.2.2.2.2.2.2.2.2.2.2.2.2.2.2.2.2.2.2.2.2.2 k1_t81 k1_t85
theorem k1_off1157_inb : ∀ (i : grid1.Coords) (v1492 : BitVec 32) (v1494 : BitVec 32) (k1_hw9 : k1_chk9 i v1492 v1494) (k1_t81 : Fin (k1_t81_loop v1492 v1494).trips) (k1_t85 : Fin (k1_t85_loop v1492 v1494 k1_t81).trips), ∀ a, (k1_off1157 v1492 v1494 k1_t81 k1_t85) a + S1x16.size a ≤ S72x256.size a := fun i v1492 v1494 k1_hw9 k1_t81 k1_t85 => k1_hw9.2.2.1.1 k1_t81 k1_t85
theorem k1_off1158_inb : ∀ (i : grid1.Coords) (v1492 : BitVec 32) (v1494 : BitVec 32) (k1_hw9 : k1_chk9 i v1492 v1494) (k1_t81 : Fin (k1_t81_loop v1492 v1494).trips) (k1_t85 : Fin (k1_t85_loop v1492 v1494 k1_t81).trips), ∀ a, (k1_off1158 v1492 v1494 k1_t81 k1_t85) a + S1x16.size a ≤ S72x256.size a := fun i v1492 v1494 k1_hw9 k1_t81 k1_t85 => k1_hw9.2.2.1.2.1 k1_t81 k1_t85
theorem k1_off1159_inb : ∀ (i : grid1.Coords) (v1492 : BitVec 32) (v1494 : BitVec 32) (k1_hw9 : k1_chk9 i v1492 v1494) (k1_t81 : Fin (k1_t81_loop v1492 v1494).trips) (k1_t85 : Fin (k1_t85_loop v1492 v1494 k1_t81).trips), ∀ a, (k1_off1159 v1492 v1494 k1_t81 k1_t85) a + S1x16.size a ≤ S72x256.size a := fun i v1492 v1494 k1_hw9 k1_t81 k1_t85 => k1_hw9.2.2.1.2.2.1 k1_t81 k1_t85
theorem k1_off1160_inb : ∀ (i : grid1.Coords) (v1492 : BitVec 32) (v1494 : BitVec 32) (k1_hw9 : k1_chk9 i v1492 v1494) (k1_t81 : Fin (k1_t81_loop v1492 v1494).trips) (k1_t85 : Fin (k1_t85_loop v1492 v1494 k1_t81).trips), ∀ a, (k1_off1160 v1492 v1494 k1_t81 k1_t85) a + S1x16.size a ≤ S72x256.size a := fun i v1492 v1494 k1_hw9 k1_t81 k1_t85 => k1_hw9.2.2.1.2.2.2.1 k1_t81 k1_t85
theorem k1_off1161_inb : ∀ (i : grid1.Coords) (v1492 : BitVec 32) (v1494 : BitVec 32) (k1_hw9 : k1_chk9 i v1492 v1494) (k1_t81 : Fin (k1_t81_loop v1492 v1494).trips) (k1_t85 : Fin (k1_t85_loop v1492 v1494 k1_t81).trips), ∀ a, (k1_off1161 v1492 v1494 k1_t81 k1_t85) a + S1x16.size a ≤ S72x256.size a := fun i v1492 v1494 k1_hw9 k1_t81 k1_t85 => k1_hw9.2.2.1.2.2.2.2.1 k1_t81 k1_t85
theorem k1_off1162_inb : ∀ (i : grid1.Coords) (v1492 : BitVec 32) (v1494 : BitVec 32) (k1_hw9 : k1_chk9 i v1492 v1494) (k1_t81 : Fin (k1_t81_loop v1492 v1494).trips) (k1_t85 : Fin (k1_t85_loop v1492 v1494 k1_t81).trips), ∀ a, (k1_off1162 v1492 v1494 k1_t81 k1_t85) a + S1x16.size a ≤ S72x256.size a := fun i v1492 v1494 k1_hw9 k1_t81 k1_t85 => k1_hw9.2.2.1.2.2.2.2.2.1 k1_t81 k1_t85
theorem k1_off1163_inb : ∀ (i : grid1.Coords) (v1492 : BitVec 32) (v1494 : BitVec 32) (k1_hw9 : k1_chk9 i v1492 v1494) (k1_t81 : Fin (k1_t81_loop v1492 v1494).trips) (k1_t85 : Fin (k1_t85_loop v1492 v1494 k1_t81).trips), ∀ a, (k1_off1163 v1492 v1494 k1_t81 k1_t85) a + S1x16.size a ≤ S72x256.size a := fun i v1492 v1494 k1_hw9 k1_t81 k1_t85 => k1_hw9.2.2.1.2.2.2.2.2.2.1 k1_t81 k1_t85
theorem k1_off1164_inb : ∀ (i : grid1.Coords) (v1492 : BitVec 32) (v1494 : BitVec 32) (k1_hw9 : k1_chk9 i v1492 v1494) (k1_t81 : Fin (k1_t81_loop v1492 v1494).trips) (k1_t85 : Fin (k1_t85_loop v1492 v1494 k1_t81).trips), ∀ a, (k1_off1164 v1492 v1494 k1_t81 k1_t85) a + S1x16.size a ≤ S72x256.size a := fun i v1492 v1494 k1_hw9 k1_t81 k1_t85 => k1_hw9.2.2.1.2.2.2.2.2.2.2.1 k1_t81 k1_t85
theorem k1_off1165_inb : ∀ (i : grid1.Coords) (v1492 : BitVec 32) (v1494 : BitVec 32) (k1_hw9 : k1_chk9 i v1492 v1494) (k1_t81 : Fin (k1_t81_loop v1492 v1494).trips) (k1_t85 : Fin (k1_t85_loop v1492 v1494 k1_t81).trips), ∀ a, (k1_off1165 v1492 v1494 k1_t81 k1_t85) a + S1x16.size a ≤ S72x256.size a := fun i v1492 v1494 k1_hw9 k1_t81 k1_t85 => k1_hw9.2.2.1.2.2.2.2.2.2.2.2.1 k1_t81 k1_t85
theorem k1_off1166_inb : ∀ (i : grid1.Coords) (v1492 : BitVec 32) (v1494 : BitVec 32) (k1_hw9 : k1_chk9 i v1492 v1494) (k1_t81 : Fin (k1_t81_loop v1492 v1494).trips) (k1_t85 : Fin (k1_t85_loop v1492 v1494 k1_t81).trips), ∀ a, (k1_off1166 v1492 v1494 k1_t81 k1_t85) a + S1x16.size a ≤ S72x256.size a := fun i v1492 v1494 k1_hw9 k1_t81 k1_t85 => k1_hw9.2.2.1.2.2.2.2.2.2.2.2.2.1 k1_t81 k1_t85
theorem k1_t86_ok : ∀ (i : grid1.Coords) (v1492 : BitVec 32) (v1494 : BitVec 32) (k1_hw9 : k1_chk9 i v1492 v1494), (k1_t86_loop v1492 v1494).OK := fun i v1492 v1494 k1_hw9 => k1_hw9.2.2.1.2.2.2.2.2.2.2.2.2.2.1
theorem k1_off1167_inb : ∀ (i : grid1.Coords) (v1492 : BitVec 32) (v1494 : BitVec 32) (k1_hw9 : k1_chk9 i v1492 v1494) (k1_t86 : Fin (k1_t86_loop v1492 v1494).trips), ∀ (k1_h78 : k1_cond78 v1492 v1494 k1_t86 = 1#1), ∀ a, (k1_off1167 i v1492 v1494 k1_t86) a + S72x256.size a ≤ S100000x512.size a := fun i v1492 v1494 k1_hw9 k1_t86 k1_h78 => k1_hw9.2.2.1.2.2.2.2.2.2.2.2.2.2.2.1 k1_t86 k1_h78
theorem k1_off1168_inb : ∀ (i : grid1.Coords) (v1492 : BitVec 32) (v1494 : BitVec 32) (k1_hw9 : k1_chk9 i v1492 v1494) (k1_t86 : Fin (k1_t86_loop v1492 v1494).trips), ∀ (k1_h78 : k1_cond78 v1492 v1494 k1_t86 = 1#1), ∀ (k1_h79 : k1_cond79 v1492 v1494 k1_t86 = 1#1), ∀ a, (k1_off1168 i v1492 v1494 k1_t86) a + S72x256.size a ≤ S100000x512.size a := fun i v1492 v1494 k1_hw9 k1_t86 k1_h78 k1_h79 => k1_hw9.2.2.1.2.2.2.2.2.2.2.2.2.2.2.2.1 k1_t86 k1_h78 k1_h79
theorem k1_t87_ok : ∀ (i : grid1.Coords) (v1492 : BitVec 32) (v1494 : BitVec 32) (k1_hw9 : k1_chk9 i v1492 v1494) (k1_t86 : Fin (k1_t86_loop v1492 v1494).trips), (k1_t87_loop v1492 v1494 k1_t86).OK := fun i v1492 v1494 k1_hw9 k1_t86 => k1_hw9.2.2.1.2.2.2.2.2.2.2.2.2.2.2.2.2.1 k1_t86
theorem k1_off1169_inb : ∀ (i : grid1.Coords) (v1492 : BitVec 32) (v1494 : BitVec 32) (k1_hw9 : k1_chk9 i v1492 v1494) (k1_t86 : Fin (k1_t86_loop v1492 v1494).trips) (k1_t87 : Fin (k1_t87_loop v1492 v1494 k1_t86).trips), ∀ a, (k1_off1169 v1492 v1494 k1_t86 k1_t87) a + S1x16.size a ≤ S72x256.size a := fun i v1492 v1494 k1_hw9 k1_t86 k1_t87 => k1_hw9.2.2.1.2.2.2.2.2.2.2.2.2.2.2.2.2.2.1 k1_t86 k1_t87
theorem k1_off1170_inb : ∀ (i : grid1.Coords) (v1492 : BitVec 32) (v1494 : BitVec 32) (k1_hw9 : k1_chk9 i v1492 v1494) (k1_t86 : Fin (k1_t86_loop v1492 v1494).trips) (k1_t87 : Fin (k1_t87_loop v1492 v1494 k1_t86).trips), ∀ a, (k1_off1170 v1492 v1494 k1_t86 k1_t87) a + S1x16.size a ≤ S72x256.size a := fun i v1492 v1494 k1_hw9 k1_t86 k1_t87 => k1_hw9.2.2.1.2.2.2.2.2.2.2.2.2.2.2.2.2.2.2.1 k1_t86 k1_t87
theorem k1_off1171_inb : ∀ (i : grid1.Coords) (v1492 : BitVec 32) (v1494 : BitVec 32) (k1_hw9 : k1_chk9 i v1492 v1494) (k1_t86 : Fin (k1_t86_loop v1492 v1494).trips) (k1_t87 : Fin (k1_t87_loop v1492 v1494 k1_t86).trips), ∀ a, (k1_off1171 v1492 v1494 k1_t86 k1_t87) a + S1x16.size a ≤ S72x256.size a := fun i v1492 v1494 k1_hw9 k1_t86 k1_t87 => k1_hw9.2.2.1.2.2.2.2.2.2.2.2.2.2.2.2.2.2.2.2.1 k1_t86 k1_t87
theorem k1_off1172_inb : ∀ (i : grid1.Coords) (v1492 : BitVec 32) (v1494 : BitVec 32) (k1_hw9 : k1_chk9 i v1492 v1494) (k1_t86 : Fin (k1_t86_loop v1492 v1494).trips) (k1_t87 : Fin (k1_t87_loop v1492 v1494 k1_t86).trips), ∀ a, (k1_off1172 v1492 v1494 k1_t86 k1_t87) a + S1x16.size a ≤ S72x256.size a := fun i v1492 v1494 k1_hw9 k1_t86 k1_t87 => k1_hw9.2.2.1.2.2.2.2.2.2.2.2.2.2.2.2.2.2.2.2.2.1 k1_t86 k1_t87
theorem k1_off1173_inb : ∀ (i : grid1.Coords) (v1492 : BitVec 32) (v1494 : BitVec 32) (k1_hw9 : k1_chk9 i v1492 v1494) (k1_t86 : Fin (k1_t86_loop v1492 v1494).trips) (k1_t87 : Fin (k1_t87_loop v1492 v1494 k1_t86).trips), ∀ a, (k1_off1173 v1492 v1494 k1_t86 k1_t87) a + S1x16.size a ≤ S72x256.size a := fun i v1492 v1494 k1_hw9 k1_t86 k1_t87 => k1_hw9.2.2.1.2.2.2.2.2.2.2.2.2.2.2.2.2.2.2.2.2.2.1 k1_t86 k1_t87
theorem k1_off1174_inb : ∀ (i : grid1.Coords) (v1492 : BitVec 32) (v1494 : BitVec 32) (k1_hw9 : k1_chk9 i v1492 v1494) (k1_t86 : Fin (k1_t86_loop v1492 v1494).trips) (k1_t87 : Fin (k1_t87_loop v1492 v1494 k1_t86).trips), ∀ a, (k1_off1174 v1492 v1494 k1_t86 k1_t87) a + S1x16.size a ≤ S72x256.size a := fun i v1492 v1494 k1_hw9 k1_t86 k1_t87 => k1_hw9.2.2.1.2.2.2.2.2.2.2.2.2.2.2.2.2.2.2.2.2.2.2.1 k1_t86 k1_t87
theorem k1_off1175_inb : ∀ (i : grid1.Coords) (v1492 : BitVec 32) (v1494 : BitVec 32) (k1_hw9 : k1_chk9 i v1492 v1494) (k1_t86 : Fin (k1_t86_loop v1492 v1494).trips) (k1_t87 : Fin (k1_t87_loop v1492 v1494 k1_t86).trips), ∀ a, (k1_off1175 v1492 v1494 k1_t86 k1_t87) a + S1x16.size a ≤ S72x256.size a := fun i v1492 v1494 k1_hw9 k1_t86 k1_t87 => k1_hw9.2.2.1.2.2.2.2.2.2.2.2.2.2.2.2.2.2.2.2.2.2.2.2.1 k1_t86 k1_t87
theorem k1_off1176_inb : ∀ (i : grid1.Coords) (v1492 : BitVec 32) (v1494 : BitVec 32) (k1_hw9 : k1_chk9 i v1492 v1494) (k1_t86 : Fin (k1_t86_loop v1492 v1494).trips) (k1_t87 : Fin (k1_t87_loop v1492 v1494 k1_t86).trips), ∀ a, (k1_off1176 v1492 v1494 k1_t86 k1_t87) a + S1x16.size a ≤ S72x256.size a := fun i v1492 v1494 k1_hw9 k1_t86 k1_t87 => k1_hw9.2.2.1.2.2.2.2.2.2.2.2.2.2.2.2.2.2.2.2.2.2.2.2.2.1 k1_t86 k1_t87
theorem k1_off1177_inb : ∀ (i : grid1.Coords) (v1492 : BitVec 32) (v1494 : BitVec 32) (k1_hw9 : k1_chk9 i v1492 v1494) (k1_t86 : Fin (k1_t86_loop v1492 v1494).trips) (k1_t87 : Fin (k1_t87_loop v1492 v1494 k1_t86).trips), ∀ a, (k1_off1177 v1492 v1494 k1_t86 k1_t87) a + S1x16.size a ≤ S72x256.size a := fun i v1492 v1494 k1_hw9 k1_t86 k1_t87 => k1_hw9.2.2.1.2.2.2.2.2.2.2.2.2.2.2.2.2.2.2.2.2.2.2.2.2.2.1 k1_t86 k1_t87
theorem k1_off1178_inb : ∀ (i : grid1.Coords) (v1492 : BitVec 32) (v1494 : BitVec 32) (k1_hw9 : k1_chk9 i v1492 v1494) (k1_t86 : Fin (k1_t86_loop v1492 v1494).trips) (k1_t87 : Fin (k1_t87_loop v1492 v1494 k1_t86).trips), ∀ a, (k1_off1178 v1492 v1494 k1_t86 k1_t87) a + S1x16.size a ≤ S72x256.size a := fun i v1492 v1494 k1_hw9 k1_t86 k1_t87 => k1_hw9.2.2.1.2.2.2.2.2.2.2.2.2.2.2.2.2.2.2.2.2.2.2.2.2.2.2.1 k1_t86 k1_t87
theorem k1_off1179_inb : ∀ (i : grid1.Coords) (v1492 : BitVec 32) (v1494 : BitVec 32) (k1_hw9 : k1_chk9 i v1492 v1494) (k1_t86 : Fin (k1_t86_loop v1492 v1494).trips) (k1_t87 : Fin (k1_t87_loop v1492 v1494 k1_t86).trips), ∀ a, (k1_off1179 v1492 v1494 k1_t86 k1_t87) a + S1x16.size a ≤ S72x256.size a := fun i v1492 v1494 k1_hw9 k1_t86 k1_t87 => k1_hw9.2.2.1.2.2.2.2.2.2.2.2.2.2.2.2.2.2.2.2.2.2.2.2.2.2.2.2.1 k1_t86 k1_t87
theorem k1_off1180_inb : ∀ (i : grid1.Coords) (v1492 : BitVec 32) (v1494 : BitVec 32) (k1_hw9 : k1_chk9 i v1492 v1494) (k1_t86 : Fin (k1_t86_loop v1492 v1494).trips) (k1_t87 : Fin (k1_t87_loop v1492 v1494 k1_t86).trips), ∀ a, (k1_off1180 v1492 v1494 k1_t86 k1_t87) a + S1x16.size a ≤ S72x256.size a := fun i v1492 v1494 k1_hw9 k1_t86 k1_t87 => k1_hw9.2.2.1.2.2.2.2.2.2.2.2.2.2.2.2.2.2.2.2.2.2.2.2.2.2.2.2.2.1 k1_t86 k1_t87
theorem k1_off1181_inb : ∀ (i : grid1.Coords) (v1492 : BitVec 32) (v1494 : BitVec 32) (k1_hw9 : k1_chk9 i v1492 v1494) (k1_t86 : Fin (k1_t86_loop v1492 v1494).trips) (k1_t87 : Fin (k1_t87_loop v1492 v1494 k1_t86).trips), ∀ a, (k1_off1181 v1492 v1494 k1_t86 k1_t87) a + S1x16.size a ≤ S72x256.size a := fun i v1492 v1494 k1_hw9 k1_t86 k1_t87 => k1_hw9.2.2.1.2.2.2.2.2.2.2.2.2.2.2.2.2.2.2.2.2.2.2.2.2.2.2.2.2.2.1 k1_t86 k1_t87
theorem k1_off1182_inb : ∀ (i : grid1.Coords) (v1492 : BitVec 32) (v1494 : BitVec 32) (k1_hw9 : k1_chk9 i v1492 v1494) (k1_t86 : Fin (k1_t86_loop v1492 v1494).trips) (k1_t87 : Fin (k1_t87_loop v1492 v1494 k1_t86).trips), ∀ a, (k1_off1182 v1492 v1494 k1_t86 k1_t87) a + S1x16.size a ≤ S72x256.size a := fun i v1492 v1494 k1_hw9 k1_t86 k1_t87 => k1_hw9.2.2.1.2.2.2.2.2.2.2.2.2.2.2.2.2.2.2.2.2.2.2.2.2.2.2.2.2.2.2.1 k1_t86 k1_t87
theorem k1_off1183_inb : ∀ (i : grid1.Coords) (v1492 : BitVec 32) (v1494 : BitVec 32) (k1_hw9 : k1_chk9 i v1492 v1494) (k1_t86 : Fin (k1_t86_loop v1492 v1494).trips) (k1_t87 : Fin (k1_t87_loop v1492 v1494 k1_t86).trips), ∀ a, (k1_off1183 v1492 v1494 k1_t86 k1_t87) a + S1x16.size a ≤ S72x256.size a := fun i v1492 v1494 k1_hw9 k1_t86 k1_t87 => k1_hw9.2.2.1.2.2.2.2.2.2.2.2.2.2.2.2.2.2.2.2.2.2.2.2.2.2.2.2.2.2.2.2.1 k1_t86 k1_t87
theorem k1_off1184_inb : ∀ (i : grid1.Coords) (v1492 : BitVec 32) (v1494 : BitVec 32) (k1_hw9 : k1_chk9 i v1492 v1494) (k1_t86 : Fin (k1_t86_loop v1492 v1494).trips) (k1_t87 : Fin (k1_t87_loop v1492 v1494 k1_t86).trips), ∀ a, (k1_off1184 v1492 v1494 k1_t86 k1_t87) a + S1x16.size a ≤ S72x256.size a := fun i v1492 v1494 k1_hw9 k1_t86 k1_t87 => k1_hw9.2.2.1.2.2.2.2.2.2.2.2.2.2.2.2.2.2.2.2.2.2.2.2.2.2.2.2.2.2.2.2.2.1 k1_t86 k1_t87
theorem k1_t88_ok : ∀ (i : grid1.Coords) (v1492 : BitVec 32) (v1494 : BitVec 32) (k1_hw9 : k1_chk9 i v1492 v1494) (k1_t86 : Fin (k1_t86_loop v1492 v1494).trips), (k1_t88_loop v1492 v1494 k1_t86).OK := fun i v1492 v1494 k1_hw9 k1_t86 => k1_hw9.2.2.1.2.2.2.2.2.2.2.2.2.2.2.2.2.2.2.2.2.2.2.2.2.2.2.2.2.2.2.2.2.2.1 k1_t86
theorem k1_off1185_inb : ∀ (i : grid1.Coords) (v1492 : BitVec 32) (v1494 : BitVec 32) (k1_hw9 : k1_chk9 i v1492 v1494) (k1_t86 : Fin (k1_t86_loop v1492 v1494).trips) (k1_t88 : Fin (k1_t88_loop v1492 v1494 k1_t86).trips), ∀ a, (k1_off1185 v1492 v1494 k1_t86 k1_t88) a + S1x16.size a ≤ S72x256.size a := fun i v1492 v1494 k1_hw9 k1_t86 k1_t88 => k1_hw9.2.2.1.2.2.2.2.2.2.2.2.2.2.2.2.2.2.2.2.2.2.2.2.2.2.2.2.2.2.2.2.2.2.2 k1_t86 k1_t88
theorem k1_off1186_inb : ∀ (i : grid1.Coords) (v1492 : BitVec 32) (v1494 : BitVec 32) (k1_hw9 : k1_chk9 i v1492 v1494) (k1_t86 : Fin (k1_t86_loop v1492 v1494).trips) (k1_t88 : Fin (k1_t88_loop v1492 v1494 k1_t86).trips), ∀ a, (k1_off1186 v1492 v1494 k1_t86 k1_t88) a + S1x16.size a ≤ S72x256.size a := fun i v1492 v1494 k1_hw9 k1_t86 k1_t88 => k1_hw9.2.2.2.1.1 k1_t86 k1_t88
theorem k1_off1187_inb : ∀ (i : grid1.Coords) (v1492 : BitVec 32) (v1494 : BitVec 32) (k1_hw9 : k1_chk9 i v1492 v1494) (k1_t86 : Fin (k1_t86_loop v1492 v1494).trips) (k1_t88 : Fin (k1_t88_loop v1492 v1494 k1_t86).trips), ∀ a, (k1_off1187 v1492 v1494 k1_t86 k1_t88) a + S1x16.size a ≤ S72x256.size a := fun i v1492 v1494 k1_hw9 k1_t86 k1_t88 => k1_hw9.2.2.2.1.2.1 k1_t86 k1_t88
theorem k1_off1188_inb : ∀ (i : grid1.Coords) (v1492 : BitVec 32) (v1494 : BitVec 32) (k1_hw9 : k1_chk9 i v1492 v1494) (k1_t86 : Fin (k1_t86_loop v1492 v1494).trips) (k1_t88 : Fin (k1_t88_loop v1492 v1494 k1_t86).trips), ∀ a, (k1_off1188 v1492 v1494 k1_t86 k1_t88) a + S1x16.size a ≤ S72x256.size a := fun i v1492 v1494 k1_hw9 k1_t86 k1_t88 => k1_hw9.2.2.2.1.2.2.1 k1_t86 k1_t88
theorem k1_off1189_inb : ∀ (i : grid1.Coords) (v1492 : BitVec 32) (v1494 : BitVec 32) (k1_hw9 : k1_chk9 i v1492 v1494) (k1_t86 : Fin (k1_t86_loop v1492 v1494).trips) (k1_t88 : Fin (k1_t88_loop v1492 v1494 k1_t86).trips), ∀ a, (k1_off1189 v1492 v1494 k1_t86 k1_t88) a + S1x16.size a ≤ S72x256.size a := fun i v1492 v1494 k1_hw9 k1_t86 k1_t88 => k1_hw9.2.2.2.1.2.2.2.1 k1_t86 k1_t88
theorem k1_off1190_inb : ∀ (i : grid1.Coords) (v1492 : BitVec 32) (v1494 : BitVec 32) (k1_hw9 : k1_chk9 i v1492 v1494) (k1_t86 : Fin (k1_t86_loop v1492 v1494).trips) (k1_t88 : Fin (k1_t88_loop v1492 v1494 k1_t86).trips), ∀ a, (k1_off1190 v1492 v1494 k1_t86 k1_t88) a + S1x16.size a ≤ S72x256.size a := fun i v1492 v1494 k1_hw9 k1_t86 k1_t88 => k1_hw9.2.2.2.1.2.2.2.2.1 k1_t86 k1_t88
theorem k1_off1191_inb : ∀ (i : grid1.Coords) (v1492 : BitVec 32) (v1494 : BitVec 32) (k1_hw9 : k1_chk9 i v1492 v1494) (k1_t86 : Fin (k1_t86_loop v1492 v1494).trips) (k1_t88 : Fin (k1_t88_loop v1492 v1494 k1_t86).trips), ∀ a, (k1_off1191 v1492 v1494 k1_t86 k1_t88) a + S1x16.size a ≤ S72x256.size a := fun i v1492 v1494 k1_hw9 k1_t86 k1_t88 => k1_hw9.2.2.2.1.2.2.2.2.2.1 k1_t86 k1_t88
theorem k1_off1192_inb : ∀ (i : grid1.Coords) (v1492 : BitVec 32) (v1494 : BitVec 32) (k1_hw9 : k1_chk9 i v1492 v1494) (k1_t86 : Fin (k1_t86_loop v1492 v1494).trips) (k1_t88 : Fin (k1_t88_loop v1492 v1494 k1_t86).trips), ∀ a, (k1_off1192 v1492 v1494 k1_t86 k1_t88) a + S1x16.size a ≤ S72x256.size a := fun i v1492 v1494 k1_hw9 k1_t86 k1_t88 => k1_hw9.2.2.2.1.2.2.2.2.2.2.1 k1_t86 k1_t88
theorem k1_off1193_inb : ∀ (i : grid1.Coords) (v1492 : BitVec 32) (v1494 : BitVec 32) (k1_hw9 : k1_chk9 i v1492 v1494) (k1_t86 : Fin (k1_t86_loop v1492 v1494).trips) (k1_t88 : Fin (k1_t88_loop v1492 v1494 k1_t86).trips), ∀ a, (k1_off1193 v1492 v1494 k1_t86 k1_t88) a + S1x16.size a ≤ S72x256.size a := fun i v1492 v1494 k1_hw9 k1_t86 k1_t88 => k1_hw9.2.2.2.1.2.2.2.2.2.2.2.1 k1_t86 k1_t88
theorem k1_off1194_inb : ∀ (i : grid1.Coords) (v1492 : BitVec 32) (v1494 : BitVec 32) (k1_hw9 : k1_chk9 i v1492 v1494) (k1_t86 : Fin (k1_t86_loop v1492 v1494).trips) (k1_t88 : Fin (k1_t88_loop v1492 v1494 k1_t86).trips), ∀ a, (k1_off1194 v1492 v1494 k1_t86 k1_t88) a + S1x16.size a ≤ S72x256.size a := fun i v1492 v1494 k1_hw9 k1_t86 k1_t88 => k1_hw9.2.2.2.1.2.2.2.2.2.2.2.2.1 k1_t86 k1_t88
theorem k1_off1195_inb : ∀ (i : grid1.Coords) (v1492 : BitVec 32) (v1494 : BitVec 32) (k1_hw9 : k1_chk9 i v1492 v1494) (k1_t86 : Fin (k1_t86_loop v1492 v1494).trips) (k1_t88 : Fin (k1_t88_loop v1492 v1494 k1_t86).trips), ∀ a, (k1_off1195 v1492 v1494 k1_t86 k1_t88) a + S1x16.size a ≤ S72x256.size a := fun i v1492 v1494 k1_hw9 k1_t86 k1_t88 => k1_hw9.2.2.2.1.2.2.2.2.2.2.2.2.2.1 k1_t86 k1_t88
theorem k1_off1196_inb : ∀ (i : grid1.Coords) (v1492 : BitVec 32) (v1494 : BitVec 32) (k1_hw9 : k1_chk9 i v1492 v1494) (k1_t86 : Fin (k1_t86_loop v1492 v1494).trips) (k1_t88 : Fin (k1_t88_loop v1492 v1494 k1_t86).trips), ∀ a, (k1_off1196 v1492 v1494 k1_t86 k1_t88) a + S1x16.size a ≤ S72x256.size a := fun i v1492 v1494 k1_hw9 k1_t86 k1_t88 => k1_hw9.2.2.2.1.2.2.2.2.2.2.2.2.2.2.1 k1_t86 k1_t88
theorem k1_off1197_inb : ∀ (i : grid1.Coords) (v1492 : BitVec 32) (v1494 : BitVec 32) (k1_hw9 : k1_chk9 i v1492 v1494) (k1_t86 : Fin (k1_t86_loop v1492 v1494).trips) (k1_t88 : Fin (k1_t88_loop v1492 v1494 k1_t86).trips), ∀ a, (k1_off1197 v1492 v1494 k1_t86 k1_t88) a + S1x16.size a ≤ S72x256.size a := fun i v1492 v1494 k1_hw9 k1_t86 k1_t88 => k1_hw9.2.2.2.1.2.2.2.2.2.2.2.2.2.2.2.1 k1_t86 k1_t88
theorem k1_off1198_inb : ∀ (i : grid1.Coords) (v1492 : BitVec 32) (v1494 : BitVec 32) (k1_hw9 : k1_chk9 i v1492 v1494) (k1_t86 : Fin (k1_t86_loop v1492 v1494).trips) (k1_t88 : Fin (k1_t88_loop v1492 v1494 k1_t86).trips), ∀ a, (k1_off1198 v1492 v1494 k1_t86 k1_t88) a + S1x16.size a ≤ S72x256.size a := fun i v1492 v1494 k1_hw9 k1_t86 k1_t88 => k1_hw9.2.2.2.1.2.2.2.2.2.2.2.2.2.2.2.2.1 k1_t86 k1_t88
theorem k1_off1199_inb : ∀ (i : grid1.Coords) (v1492 : BitVec 32) (v1494 : BitVec 32) (k1_hw9 : k1_chk9 i v1492 v1494) (k1_t86 : Fin (k1_t86_loop v1492 v1494).trips) (k1_t88 : Fin (k1_t88_loop v1492 v1494 k1_t86).trips), ∀ a, (k1_off1199 v1492 v1494 k1_t86 k1_t88) a + S1x16.size a ≤ S72x256.size a := fun i v1492 v1494 k1_hw9 k1_t86 k1_t88 => k1_hw9.2.2.2.1.2.2.2.2.2.2.2.2.2.2.2.2.2.1 k1_t86 k1_t88
theorem k1_off1200_inb : ∀ (i : grid1.Coords) (v1492 : BitVec 32) (v1494 : BitVec 32) (k1_hw9 : k1_chk9 i v1492 v1494) (k1_t86 : Fin (k1_t86_loop v1492 v1494).trips) (k1_t88 : Fin (k1_t88_loop v1492 v1494 k1_t86).trips), ∀ a, (k1_off1200 v1492 v1494 k1_t86 k1_t88) a + S1x16.size a ≤ S72x256.size a := fun i v1492 v1494 k1_hw9 k1_t86 k1_t88 => k1_hw9.2.2.2.1.2.2.2.2.2.2.2.2.2.2.2.2.2.2.1 k1_t86 k1_t88
theorem k1_off1201_inb : ∀ (i : grid1.Coords) (v1492 : BitVec 32) (v1494 : BitVec 32) (k1_hw9 : k1_chk9 i v1492 v1494) (k1_t86 : Fin (k1_t86_loop v1492 v1494).trips), ∀ (k1_h80 : k1_cond80 v1492 v1494 k1_t86 = 1#1), ∀ a, (k1_off1201 i v1492 v1494 k1_t86) a + S72x256.size a ≤ S100000x512.size a := fun i v1492 v1494 k1_hw9 k1_t86 k1_h80 => k1_hw9.2.2.2.1.2.2.2.2.2.2.2.2.2.2.2.2.2.2.2.1 k1_t86 k1_h80
theorem k1_off1202_inb : ∀ (i : grid1.Coords) (v1492 : BitVec 32) (v1494 : BitVec 32) (k1_hw9 : k1_chk9 i v1492 v1494) (k1_t86 : Fin (k1_t86_loop v1492 v1494).trips), ∀ (k1_h80 : k1_cond80 v1492 v1494 k1_t86 = 1#1), ∀ (k1_h81 : k1_cond81 v1492 v1494 k1_t86 = 1#1), ∀ a, (k1_off1202 i v1492 v1494 k1_t86) a + S72x256.size a ≤ S100000x512.size a := fun i v1492 v1494 k1_hw9 k1_t86 k1_h80 k1_h81 => k1_hw9.2.2.2.1.2.2.2.2.2.2.2.2.2.2.2.2.2.2.2.2.1 k1_t86 k1_h80 k1_h81
theorem k1_t89_ok : ∀ (i : grid1.Coords) (v1492 : BitVec 32) (v1494 : BitVec 32) (k1_hw9 : k1_chk9 i v1492 v1494) (k1_t86 : Fin (k1_t86_loop v1492 v1494).trips), (k1_t89_loop v1492 v1494 k1_t86).OK := fun i v1492 v1494 k1_hw9 k1_t86 => k1_hw9.2.2.2.1.2.2.2.2.2.2.2.2.2.2.2.2.2.2.2.2.2.1 k1_t86
theorem k1_off1203_inb : ∀ (i : grid1.Coords) (v1492 : BitVec 32) (v1494 : BitVec 32) (k1_hw9 : k1_chk9 i v1492 v1494) (k1_t86 : Fin (k1_t86_loop v1492 v1494).trips) (k1_t89 : Fin (k1_t89_loop v1492 v1494 k1_t86).trips), ∀ a, (k1_off1203 v1492 v1494 k1_t86 k1_t89) a + S1x16.size a ≤ S72x256.size a := fun i v1492 v1494 k1_hw9 k1_t86 k1_t89 => k1_hw9.2.2.2.1.2.2.2.2.2.2.2.2.2.2.2.2.2.2.2.2.2.2.1 k1_t86 k1_t89
theorem k1_off1204_inb : ∀ (i : grid1.Coords) (v1492 : BitVec 32) (v1494 : BitVec 32) (k1_hw9 : k1_chk9 i v1492 v1494) (k1_t86 : Fin (k1_t86_loop v1492 v1494).trips) (k1_t89 : Fin (k1_t89_loop v1492 v1494 k1_t86).trips), ∀ a, (k1_off1204 v1492 v1494 k1_t86 k1_t89) a + S1x16.size a ≤ S72x256.size a := fun i v1492 v1494 k1_hw9 k1_t86 k1_t89 => k1_hw9.2.2.2.1.2.2.2.2.2.2.2.2.2.2.2.2.2.2.2.2.2.2.2.1 k1_t86 k1_t89
theorem k1_off1205_inb : ∀ (i : grid1.Coords) (v1492 : BitVec 32) (v1494 : BitVec 32) (k1_hw9 : k1_chk9 i v1492 v1494) (k1_t86 : Fin (k1_t86_loop v1492 v1494).trips) (k1_t89 : Fin (k1_t89_loop v1492 v1494 k1_t86).trips), ∀ a, (k1_off1205 v1492 v1494 k1_t86 k1_t89) a + S1x16.size a ≤ S72x256.size a := fun i v1492 v1494 k1_hw9 k1_t86 k1_t89 => k1_hw9.2.2.2.1.2.2.2.2.2.2.2.2.2.2.2.2.2.2.2.2.2.2.2.2.1 k1_t86 k1_t89
theorem k1_off1206_inb : ∀ (i : grid1.Coords) (v1492 : BitVec 32) (v1494 : BitVec 32) (k1_hw9 : k1_chk9 i v1492 v1494) (k1_t86 : Fin (k1_t86_loop v1492 v1494).trips) (k1_t89 : Fin (k1_t89_loop v1492 v1494 k1_t86).trips), ∀ a, (k1_off1206 v1492 v1494 k1_t86 k1_t89) a + S1x16.size a ≤ S72x256.size a := fun i v1492 v1494 k1_hw9 k1_t86 k1_t89 => k1_hw9.2.2.2.1.2.2.2.2.2.2.2.2.2.2.2.2.2.2.2.2.2.2.2.2.2.1 k1_t86 k1_t89
theorem k1_off1207_inb : ∀ (i : grid1.Coords) (v1492 : BitVec 32) (v1494 : BitVec 32) (k1_hw9 : k1_chk9 i v1492 v1494) (k1_t86 : Fin (k1_t86_loop v1492 v1494).trips) (k1_t89 : Fin (k1_t89_loop v1492 v1494 k1_t86).trips), ∀ a, (k1_off1207 v1492 v1494 k1_t86 k1_t89) a + S1x16.size a ≤ S72x256.size a := fun i v1492 v1494 k1_hw9 k1_t86 k1_t89 => k1_hw9.2.2.2.1.2.2.2.2.2.2.2.2.2.2.2.2.2.2.2.2.2.2.2.2.2.2.1 k1_t86 k1_t89
theorem k1_off1208_inb : ∀ (i : grid1.Coords) (v1492 : BitVec 32) (v1494 : BitVec 32) (k1_hw9 : k1_chk9 i v1492 v1494) (k1_t86 : Fin (k1_t86_loop v1492 v1494).trips) (k1_t89 : Fin (k1_t89_loop v1492 v1494 k1_t86).trips), ∀ a, (k1_off1208 v1492 v1494 k1_t86 k1_t89) a + S1x16.size a ≤ S72x256.size a := fun i v1492 v1494 k1_hw9 k1_t86 k1_t89 => k1_hw9.2.2.2.1.2.2.2.2.2.2.2.2.2.2.2.2.2.2.2.2.2.2.2.2.2.2.2.1 k1_t86 k1_t89
theorem k1_off1209_inb : ∀ (i : grid1.Coords) (v1492 : BitVec 32) (v1494 : BitVec 32) (k1_hw9 : k1_chk9 i v1492 v1494) (k1_t86 : Fin (k1_t86_loop v1492 v1494).trips) (k1_t89 : Fin (k1_t89_loop v1492 v1494 k1_t86).trips), ∀ a, (k1_off1209 v1492 v1494 k1_t86 k1_t89) a + S1x16.size a ≤ S72x256.size a := fun i v1492 v1494 k1_hw9 k1_t86 k1_t89 => k1_hw9.2.2.2.1.2.2.2.2.2.2.2.2.2.2.2.2.2.2.2.2.2.2.2.2.2.2.2.2.1 k1_t86 k1_t89
theorem k1_off1210_inb : ∀ (i : grid1.Coords) (v1492 : BitVec 32) (v1494 : BitVec 32) (k1_hw9 : k1_chk9 i v1492 v1494) (k1_t86 : Fin (k1_t86_loop v1492 v1494).trips) (k1_t89 : Fin (k1_t89_loop v1492 v1494 k1_t86).trips), ∀ a, (k1_off1210 v1492 v1494 k1_t86 k1_t89) a + S1x16.size a ≤ S72x256.size a := fun i v1492 v1494 k1_hw9 k1_t86 k1_t89 => k1_hw9.2.2.2.1.2.2.2.2.2.2.2.2.2.2.2.2.2.2.2.2.2.2.2.2.2.2.2.2.2.1 k1_t86 k1_t89
theorem k1_off1211_inb : ∀ (i : grid1.Coords) (v1492 : BitVec 32) (v1494 : BitVec 32) (k1_hw9 : k1_chk9 i v1492 v1494) (k1_t86 : Fin (k1_t86_loop v1492 v1494).trips) (k1_t89 : Fin (k1_t89_loop v1492 v1494 k1_t86).trips), ∀ a, (k1_off1211 v1492 v1494 k1_t86 k1_t89) a + S1x16.size a ≤ S72x256.size a := fun i v1492 v1494 k1_hw9 k1_t86 k1_t89 => k1_hw9.2.2.2.1.2.2.2.2.2.2.2.2.2.2.2.2.2.2.2.2.2.2.2.2.2.2.2.2.2.2.1 k1_t86 k1_t89
theorem k1_off1212_inb : ∀ (i : grid1.Coords) (v1492 : BitVec 32) (v1494 : BitVec 32) (k1_hw9 : k1_chk9 i v1492 v1494) (k1_t86 : Fin (k1_t86_loop v1492 v1494).trips) (k1_t89 : Fin (k1_t89_loop v1492 v1494 k1_t86).trips), ∀ a, (k1_off1212 v1492 v1494 k1_t86 k1_t89) a + S1x16.size a ≤ S72x256.size a := fun i v1492 v1494 k1_hw9 k1_t86 k1_t89 => k1_hw9.2.2.2.1.2.2.2.2.2.2.2.2.2.2.2.2.2.2.2.2.2.2.2.2.2.2.2.2.2.2.2.1 k1_t86 k1_t89
theorem k1_off1213_inb : ∀ (i : grid1.Coords) (v1492 : BitVec 32) (v1494 : BitVec 32) (k1_hw9 : k1_chk9 i v1492 v1494) (k1_t86 : Fin (k1_t86_loop v1492 v1494).trips) (k1_t89 : Fin (k1_t89_loop v1492 v1494 k1_t86).trips), ∀ a, (k1_off1213 v1492 v1494 k1_t86 k1_t89) a + S1x16.size a ≤ S72x256.size a := fun i v1492 v1494 k1_hw9 k1_t86 k1_t89 => k1_hw9.2.2.2.1.2.2.2.2.2.2.2.2.2.2.2.2.2.2.2.2.2.2.2.2.2.2.2.2.2.2.2.2.1 k1_t86 k1_t89
theorem k1_off1214_inb : ∀ (i : grid1.Coords) (v1492 : BitVec 32) (v1494 : BitVec 32) (k1_hw9 : k1_chk9 i v1492 v1494) (k1_t86 : Fin (k1_t86_loop v1492 v1494).trips) (k1_t89 : Fin (k1_t89_loop v1492 v1494 k1_t86).trips), ∀ a, (k1_off1214 v1492 v1494 k1_t86 k1_t89) a + S1x16.size a ≤ S72x256.size a := fun i v1492 v1494 k1_hw9 k1_t86 k1_t89 => k1_hw9.2.2.2.1.2.2.2.2.2.2.2.2.2.2.2.2.2.2.2.2.2.2.2.2.2.2.2.2.2.2.2.2.2.1 k1_t86 k1_t89
theorem k1_off1215_inb : ∀ (i : grid1.Coords) (v1492 : BitVec 32) (v1494 : BitVec 32) (k1_hw9 : k1_chk9 i v1492 v1494) (k1_t86 : Fin (k1_t86_loop v1492 v1494).trips) (k1_t89 : Fin (k1_t89_loop v1492 v1494 k1_t86).trips), ∀ a, (k1_off1215 v1492 v1494 k1_t86 k1_t89) a + S1x16.size a ≤ S72x256.size a := fun i v1492 v1494 k1_hw9 k1_t86 k1_t89 => k1_hw9.2.2.2.1.2.2.2.2.2.2.2.2.2.2.2.2.2.2.2.2.2.2.2.2.2.2.2.2.2.2.2.2.2.2.1 k1_t86 k1_t89
theorem k1_off1216_inb : ∀ (i : grid1.Coords) (v1492 : BitVec 32) (v1494 : BitVec 32) (k1_hw9 : k1_chk9 i v1492 v1494) (k1_t86 : Fin (k1_t86_loop v1492 v1494).trips) (k1_t89 : Fin (k1_t89_loop v1492 v1494 k1_t86).trips), ∀ a, (k1_off1216 v1492 v1494 k1_t86 k1_t89) a + S1x16.size a ≤ S72x256.size a := fun i v1492 v1494 k1_hw9 k1_t86 k1_t89 => k1_hw9.2.2.2.1.2.2.2.2.2.2.2.2.2.2.2.2.2.2.2.2.2.2.2.2.2.2.2.2.2.2.2.2.2.2.2 k1_t86 k1_t89
theorem k1_off1217_inb : ∀ (i : grid1.Coords) (v1492 : BitVec 32) (v1494 : BitVec 32) (k1_hw9 : k1_chk9 i v1492 v1494) (k1_t86 : Fin (k1_t86_loop v1492 v1494).trips) (k1_t89 : Fin (k1_t89_loop v1492 v1494 k1_t86).trips), ∀ a, (k1_off1217 v1492 v1494 k1_t86 k1_t89) a + S1x16.size a ≤ S72x256.size a := fun i v1492 v1494 k1_hw9 k1_t86 k1_t89 => k1_hw9.2.2.2.2.1 k1_t86 k1_t89
theorem k1_off1218_inb : ∀ (i : grid1.Coords) (v1492 : BitVec 32) (v1494 : BitVec 32) (k1_hw9 : k1_chk9 i v1492 v1494) (k1_t86 : Fin (k1_t86_loop v1492 v1494).trips) (k1_t89 : Fin (k1_t89_loop v1492 v1494 k1_t86).trips), ∀ a, (k1_off1218 v1492 v1494 k1_t86 k1_t89) a + S1x16.size a ≤ S72x256.size a := fun i v1492 v1494 k1_hw9 k1_t86 k1_t89 => k1_hw9.2.2.2.2.2.1 k1_t86 k1_t89
theorem k1_t90_ok : ∀ (i : grid1.Coords) (v1492 : BitVec 32) (v1494 : BitVec 32) (k1_hw9 : k1_chk9 i v1492 v1494) (k1_t86 : Fin (k1_t86_loop v1492 v1494).trips), (k1_t90_loop v1492 v1494 k1_t86).OK := fun i v1492 v1494 k1_hw9 k1_t86 => k1_hw9.2.2.2.2.2.2.1 k1_t86
theorem k1_off1219_inb : ∀ (i : grid1.Coords) (v1492 : BitVec 32) (v1494 : BitVec 32) (k1_hw9 : k1_chk9 i v1492 v1494) (k1_t86 : Fin (k1_t86_loop v1492 v1494).trips) (k1_t90 : Fin (k1_t90_loop v1492 v1494 k1_t86).trips), ∀ a, (k1_off1219 v1492 v1494 k1_t86 k1_t90) a + S1x16.size a ≤ S72x256.size a := fun i v1492 v1494 k1_hw9 k1_t86 k1_t90 => k1_hw9.2.2.2.2.2.2.2.1 k1_t86 k1_t90
theorem k1_off1220_inb : ∀ (i : grid1.Coords) (v1492 : BitVec 32) (v1494 : BitVec 32) (k1_hw9 : k1_chk9 i v1492 v1494) (k1_t86 : Fin (k1_t86_loop v1492 v1494).trips) (k1_t90 : Fin (k1_t90_loop v1492 v1494 k1_t86).trips), ∀ a, (k1_off1220 v1492 v1494 k1_t86 k1_t90) a + S1x16.size a ≤ S72x256.size a := fun i v1492 v1494 k1_hw9 k1_t86 k1_t90 => k1_hw9.2.2.2.2.2.2.2.2.1 k1_t86 k1_t90
theorem k1_off1221_inb : ∀ (i : grid1.Coords) (v1492 : BitVec 32) (v1494 : BitVec 32) (k1_hw9 : k1_chk9 i v1492 v1494) (k1_t86 : Fin (k1_t86_loop v1492 v1494).trips) (k1_t90 : Fin (k1_t90_loop v1492 v1494 k1_t86).trips), ∀ a, (k1_off1221 v1492 v1494 k1_t86 k1_t90) a + S1x16.size a ≤ S72x256.size a := fun i v1492 v1494 k1_hw9 k1_t86 k1_t90 => k1_hw9.2.2.2.2.2.2.2.2.2.1 k1_t86 k1_t90
theorem k1_off1222_inb : ∀ (i : grid1.Coords) (v1492 : BitVec 32) (v1494 : BitVec 32) (k1_hw9 : k1_chk9 i v1492 v1494) (k1_t86 : Fin (k1_t86_loop v1492 v1494).trips) (k1_t90 : Fin (k1_t90_loop v1492 v1494 k1_t86).trips), ∀ a, (k1_off1222 v1492 v1494 k1_t86 k1_t90) a + S1x16.size a ≤ S72x256.size a := fun i v1492 v1494 k1_hw9 k1_t86 k1_t90 => k1_hw9.2.2.2.2.2.2.2.2.2.2.1 k1_t86 k1_t90
theorem k1_off1223_inb : ∀ (i : grid1.Coords) (v1492 : BitVec 32) (v1494 : BitVec 32) (k1_hw9 : k1_chk9 i v1492 v1494) (k1_t86 : Fin (k1_t86_loop v1492 v1494).trips) (k1_t90 : Fin (k1_t90_loop v1492 v1494 k1_t86).trips), ∀ a, (k1_off1223 v1492 v1494 k1_t86 k1_t90) a + S1x16.size a ≤ S72x256.size a := fun i v1492 v1494 k1_hw9 k1_t86 k1_t90 => k1_hw9.2.2.2.2.2.2.2.2.2.2.2.1 k1_t86 k1_t90
theorem k1_off1224_inb : ∀ (i : grid1.Coords) (v1492 : BitVec 32) (v1494 : BitVec 32) (k1_hw9 : k1_chk9 i v1492 v1494) (k1_t86 : Fin (k1_t86_loop v1492 v1494).trips) (k1_t90 : Fin (k1_t90_loop v1492 v1494 k1_t86).trips), ∀ a, (k1_off1224 v1492 v1494 k1_t86 k1_t90) a + S1x16.size a ≤ S72x256.size a := fun i v1492 v1494 k1_hw9 k1_t86 k1_t90 => k1_hw9.2.2.2.2.2.2.2.2.2.2.2.2.1 k1_t86 k1_t90
theorem k1_off1225_inb : ∀ (i : grid1.Coords) (v1492 : BitVec 32) (v1494 : BitVec 32) (k1_hw9 : k1_chk9 i v1492 v1494) (k1_t86 : Fin (k1_t86_loop v1492 v1494).trips) (k1_t90 : Fin (k1_t90_loop v1492 v1494 k1_t86).trips), ∀ a, (k1_off1225 v1492 v1494 k1_t86 k1_t90) a + S1x16.size a ≤ S72x256.size a := fun i v1492 v1494 k1_hw9 k1_t86 k1_t90 => k1_hw9.2.2.2.2.2.2.2.2.2.2.2.2.2.1 k1_t86 k1_t90
theorem k1_off1226_inb : ∀ (i : grid1.Coords) (v1492 : BitVec 32) (v1494 : BitVec 32) (k1_hw9 : k1_chk9 i v1492 v1494) (k1_t86 : Fin (k1_t86_loop v1492 v1494).trips) (k1_t90 : Fin (k1_t90_loop v1492 v1494 k1_t86).trips), ∀ a, (k1_off1226 v1492 v1494 k1_t86 k1_t90) a + S1x16.size a ≤ S72x256.size a := fun i v1492 v1494 k1_hw9 k1_t86 k1_t90 => k1_hw9.2.2.2.2.2.2.2.2.2.2.2.2.2.2.1 k1_t86 k1_t90
theorem k1_off1227_inb : ∀ (i : grid1.Coords) (v1492 : BitVec 32) (v1494 : BitVec 32) (k1_hw9 : k1_chk9 i v1492 v1494) (k1_t86 : Fin (k1_t86_loop v1492 v1494).trips) (k1_t90 : Fin (k1_t90_loop v1492 v1494 k1_t86).trips), ∀ a, (k1_off1227 v1492 v1494 k1_t86 k1_t90) a + S1x16.size a ≤ S72x256.size a := fun i v1492 v1494 k1_hw9 k1_t86 k1_t90 => k1_hw9.2.2.2.2.2.2.2.2.2.2.2.2.2.2.2.1 k1_t86 k1_t90
theorem k1_off1228_inb : ∀ (i : grid1.Coords) (v1492 : BitVec 32) (v1494 : BitVec 32) (k1_hw9 : k1_chk9 i v1492 v1494) (k1_t86 : Fin (k1_t86_loop v1492 v1494).trips) (k1_t90 : Fin (k1_t90_loop v1492 v1494 k1_t86).trips), ∀ a, (k1_off1228 v1492 v1494 k1_t86 k1_t90) a + S1x16.size a ≤ S72x256.size a := fun i v1492 v1494 k1_hw9 k1_t86 k1_t90 => k1_hw9.2.2.2.2.2.2.2.2.2.2.2.2.2.2.2.2.1 k1_t86 k1_t90
theorem k1_off1229_inb : ∀ (i : grid1.Coords) (v1492 : BitVec 32) (v1494 : BitVec 32) (k1_hw9 : k1_chk9 i v1492 v1494) (k1_t86 : Fin (k1_t86_loop v1492 v1494).trips) (k1_t90 : Fin (k1_t90_loop v1492 v1494 k1_t86).trips), ∀ a, (k1_off1229 v1492 v1494 k1_t86 k1_t90) a + S1x16.size a ≤ S72x256.size a := fun i v1492 v1494 k1_hw9 k1_t86 k1_t90 => k1_hw9.2.2.2.2.2.2.2.2.2.2.2.2.2.2.2.2.2.1 k1_t86 k1_t90
theorem k1_off1230_inb : ∀ (i : grid1.Coords) (v1492 : BitVec 32) (v1494 : BitVec 32) (k1_hw9 : k1_chk9 i v1492 v1494) (k1_t86 : Fin (k1_t86_loop v1492 v1494).trips) (k1_t90 : Fin (k1_t90_loop v1492 v1494 k1_t86).trips), ∀ a, (k1_off1230 v1492 v1494 k1_t86 k1_t90) a + S1x16.size a ≤ S72x256.size a := fun i v1492 v1494 k1_hw9 k1_t86 k1_t90 => k1_hw9.2.2.2.2.2.2.2.2.2.2.2.2.2.2.2.2.2.2.1 k1_t86 k1_t90
theorem k1_off1231_inb : ∀ (i : grid1.Coords) (v1492 : BitVec 32) (v1494 : BitVec 32) (k1_hw9 : k1_chk9 i v1492 v1494) (k1_t86 : Fin (k1_t86_loop v1492 v1494).trips) (k1_t90 : Fin (k1_t90_loop v1492 v1494 k1_t86).trips), ∀ a, (k1_off1231 v1492 v1494 k1_t86 k1_t90) a + S1x16.size a ≤ S72x256.size a := fun i v1492 v1494 k1_hw9 k1_t86 k1_t90 => k1_hw9.2.2.2.2.2.2.2.2.2.2.2.2.2.2.2.2.2.2.2.1 k1_t86 k1_t90
theorem k1_off1232_inb : ∀ (i : grid1.Coords) (v1492 : BitVec 32) (v1494 : BitVec 32) (k1_hw9 : k1_chk9 i v1492 v1494) (k1_t86 : Fin (k1_t86_loop v1492 v1494).trips) (k1_t90 : Fin (k1_t90_loop v1492 v1494 k1_t86).trips), ∀ a, (k1_off1232 v1492 v1494 k1_t86 k1_t90) a + S1x16.size a ≤ S72x256.size a := fun i v1492 v1494 k1_hw9 k1_t86 k1_t90 => k1_hw9.2.2.2.2.2.2.2.2.2.2.2.2.2.2.2.2.2.2.2.2.1 k1_t86 k1_t90
theorem k1_off1233_inb : ∀ (i : grid1.Coords) (v1492 : BitVec 32) (v1494 : BitVec 32) (k1_hw9 : k1_chk9 i v1492 v1494) (k1_t86 : Fin (k1_t86_loop v1492 v1494).trips) (k1_t90 : Fin (k1_t90_loop v1492 v1494 k1_t86).trips), ∀ a, (k1_off1233 v1492 v1494 k1_t86 k1_t90) a + S1x16.size a ≤ S72x256.size a := fun i v1492 v1494 k1_hw9 k1_t86 k1_t90 => k1_hw9.2.2.2.2.2.2.2.2.2.2.2.2.2.2.2.2.2.2.2.2.2.1 k1_t86 k1_t90
theorem k1_off1234_inb : ∀ (i : grid1.Coords) (v1492 : BitVec 32) (v1494 : BitVec 32) (k1_hw9 : k1_chk9 i v1492 v1494) (k1_t86 : Fin (k1_t86_loop v1492 v1494).trips) (k1_t90 : Fin (k1_t90_loop v1492 v1494 k1_t86).trips), ∀ a, (k1_off1234 v1492 v1494 k1_t86 k1_t90) a + S1x16.size a ≤ S72x256.size a := fun i v1492 v1494 k1_hw9 k1_t86 k1_t90 => k1_hw9.2.2.2.2.2.2.2.2.2.2.2.2.2.2.2.2.2.2.2.2.2.2 k1_t86 k1_t90

def k1_off1235 (i : grid1.Coords) (v1674 : BitVec 32) : Fin 2 → Nat :=
  let c0_i32_1408 : BitVec 32 := 0#32
  let v2949 : BitVec 32 := Scalar.addi v1674 c0_i32_1408
  let c0_i32_1410 : BitVec 32 := 0#32
  let v2951 : BitVec 1 := Scalar.cmpi .sgt v2949 c0_i32_1410
  let v2952 : BitVec 32 := Scalar.extui v2951
  let c0_i32_1411 : BitVec 32 := 0#32
  let v2953 : BitVec 1 := Scalar.cmpi .slt v2949 c0_i32_1411
  let v2954 : BitVec 32 := Scalar.extui v2953
  let v2955 : BitVec 32 := Scalar.subi v2952 v2954
  let c8_i32_1409 : BitVec 32 := 8#32
  let c0_i32_1412 : BitVec 32 := 0#32
  let v2956 : BitVec 1 := Scalar.cmpi .sgt c8_i32_1409 c0_i32_1412
  let v2957 : BitVec 32 := Scalar.extui v2956
  let c0_i32_1413 : BitVec 32 := 0#32
  let v2958 : BitVec 1 := Scalar.cmpi .slt c8_i32_1409 c0_i32_1413
  let v2959 : BitVec 32 := Scalar.extui v2958
  let v2960 : BitVec 32 := Scalar.subi v2957 v2959
  let v2961 : BitVec 1 := Scalar.cmpi .ne v2955 v2960
  let v2962 : BitVec 32 := Scalar.remsi v2949 c8_i32_1409
  let c0_i32_1414 : BitVec 32 := 0#32
  let v2963 : BitVec 1 := Scalar.cmpi .ne v2962 c0_i32_1414
  let v2964 : BitVec 1 := Scalar.andi v2961 v2963
  let v2950 : BitVec 32 := Scalar.divsi v2949 c8_i32_1409
  let c1_i32_1415 : BitVec 32 := 1#32
  let v2965 : BitVec 32 := Scalar.subi v2950 c1_i32_1415
  let v2966 : BitVec 32 := Scalar.select v2964 v2965 v2950
  let c8_i32_1416 : BitVec 32 := 8#32
  let v2967 : BitVec 32 := Scalar.muli v2966 c8_i32_1416
  let c99928_i32 : BitVec 32 := 99928#32
  let v2968 : BitVec 32 := Scalar.minsi v2967 c99928_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v2968.toNat, v29.toNat]
def k1_cond82 (v1674 : BitVec 32) (v1676 : BitVec 32) : BitVec 1 :=
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c0_i32_801 : BitVec 32 := 0#32
  let v1699 : BitVec 1 := Scalar.cmpi .sgt v1698 c0_i32_801
  let v1700 : BitVec 32 := Scalar.extui v1699
  let c0_i32_802 : BitVec 32 := 0#32
  let v1701 : BitVec 1 := Scalar.cmpi .ne v1700 c0_i32_802
  v1701

@[reducible] def k1_t91_loop (v1674 : BitVec 32) (v1676 : BitVec 32) : Scf.Loop 32 :=
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_813 : BitVec 32 := 1#32
  ⟨c0_i32_811, v1724, c1_i32_813⟩
def k1_off1236 (i : grid1.Coords) (v1674 : BitVec 32) (v1676 : BitVec 32) (k1_t91 : Fin (k1_t91_loop v1674 v1676).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1446 : BitVec 32 := 64#32
  let v3026 : BitVec 32 := Scalar.muli v2949 c64_i32_1446
  let v3027 : BitVec 32 := Scalar.addi v1674 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond83 (v1674 : BitVec 32) (v1676 : BitVec 32) (k1_t91 : Fin (k1_t91_loop v1674 v1676).trips) : BitVec 1 :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let v2950 : BitVec 1 := Scalar.cmpi .slt v2949 v1698
  let v2951 : BitVec 32 := Scalar.extui v2950
  let c0_i32_1409 : BitVec 32 := 0#32
  let v2952 : BitVec 1 := Scalar.cmpi .ne v2951 c0_i32_1409
  v2952

def k1_off1237 (i : grid1.Coords) (v1674 : BitVec 32) (v1676 : BitVec 32) (k1_t91 : Fin (k1_t91_loop v1674 v1676).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v1674 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond84 (v1674 : BitVec 32) (v1676 : BitVec 32) (k1_t91 : Fin (k1_t91_loop v1674 v1676).trips) : BitVec 1 :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c1_i32_1456 : BitVec 32 := 1#32
  let v3049 : BitVec 32 := Scalar.addi v2949 c1_i32_1456
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let v3050 : BitVec 1 := Scalar.cmpi .slt v3049 v1698
  let v3051 : BitVec 32 := Scalar.extui v3050
  let c0_i32_1457 : BitVec 32 := 0#32
  let v3052 : BitVec 1 := Scalar.cmpi .ne v3051 c0_i32_1457
  v3052

@[reducible] def k1_t92_loop (v1674 : BitVec 32) (v1676 : BitVec 32) (k1_t91 : Fin (k1_t91_loop v1674 v1676).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off1238 (v1674 : BitVec 32) (v1676 : BitVec 32) (k1_t91 : Fin (k1_t91_loop v1674 v1676).trips) (k1_t92 : Fin (k1_t92_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t92
  let v3026 : BitVec 32 := Scalar.addi v2976 arg46
  let v3027 : Index := Scalar.indexCast v3026
  let c0_1446 : Index := 0#32
  ![v3027.toNat, 0]
def k1_off1239 (v1674 : BitVec 32) (v1676 : BitVec 32) (k1_t91 : Fin (k1_t91_loop v1674 v1676).trips) (k1_t92 : Fin (k1_t92_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t92
  let v3026 : BitVec 32 := Scalar.addi v2976 arg46
  let v3032 : Index := Scalar.indexCast v3026
  let c16_1447 : Index := 16#32
  ![v3032.toNat, 16]
def k1_off1240 (v1674 : BitVec 32) (v1676 : BitVec 32) (k1_t91 : Fin (k1_t91_loop v1674 v1676).trips) (k1_t92 : Fin (k1_t92_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t92
  let v3026 : BitVec 32 := Scalar.addi v2976 arg46
  let v3037 : Index := Scalar.indexCast v3026
  let c32_1448 : Index := 32#32
  ![v3037.toNat, 32]
def k1_off1241 (v1674 : BitVec 32) (v1676 : BitVec 32) (k1_t91 : Fin (k1_t91_loop v1674 v1676).trips) (k1_t92 : Fin (k1_t92_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t92
  let v3026 : BitVec 32 := Scalar.addi v2976 arg46
  let v3042 : Index := Scalar.indexCast v3026
  let c48_1449 : Index := 48#32
  ![v3042.toNat, 48]
def k1_off1242 (v1674 : BitVec 32) (v1676 : BitVec 32) (k1_t91 : Fin (k1_t91_loop v1674 v1676).trips) (k1_t92 : Fin (k1_t92_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t92
  let v3026 : BitVec 32 := Scalar.addi v2976 arg46
  let v3047 : Index := Scalar.indexCast v3026
  let c64_1450 : Index := 64#32
  ![v3047.toNat, 64]
def k1_off1243 (v1674 : BitVec 32) (v1676 : BitVec 32) (k1_t91 : Fin (k1_t91_loop v1674 v1676).trips) (k1_t92 : Fin (k1_t92_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t92
  let v3026 : BitVec 32 := Scalar.addi v2976 arg46
  let v3052 : Index := Scalar.indexCast v3026
  let c80_1451 : Index := 80#32
  ![v3052.toNat, 80]
def k1_off1244 (v1674 : BitVec 32) (v1676 : BitVec 32) (k1_t91 : Fin (k1_t91_loop v1674 v1676).trips) (k1_t92 : Fin (k1_t92_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t92
  let v3026 : BitVec 32 := Scalar.addi v2976 arg46
  let v3057 : Index := Scalar.indexCast v3026
  let c96_1452 : Index := 96#32
  ![v3057.toNat, 96]
def k1_off1245 (v1674 : BitVec 32) (v1676 : BitVec 32) (k1_t91 : Fin (k1_t91_loop v1674 v1676).trips) (k1_t92 : Fin (k1_t92_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t92
  let v3026 : BitVec 32 := Scalar.addi v2976 arg46
  let v3062 : Index := Scalar.indexCast v3026
  let c112_1453 : Index := 112#32
  ![v3062.toNat, 112]
def k1_off1246 (v1674 : BitVec 32) (v1676 : BitVec 32) (k1_t91 : Fin (k1_t91_loop v1674 v1676).trips) (k1_t92 : Fin (k1_t92_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t92
  let v3026 : BitVec 32 := Scalar.addi v2976 arg46
  let v3067 : Index := Scalar.indexCast v3026
  let c128_1454 : Index := 128#32
  ![v3067.toNat, 128]
def k1_off1247 (v1674 : BitVec 32) (v1676 : BitVec 32) (k1_t91 : Fin (k1_t91_loop v1674 v1676).trips) (k1_t92 : Fin (k1_t92_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t92
  let v3026 : BitVec 32 := Scalar.addi v2976 arg46
  let v3072 : Index := Scalar.indexCast v3026
  let c144_1455 : Index := 144#32
  ![v3072.toNat, 144]
def k1_off1248 (v1674 : BitVec 32) (v1676 : BitVec 32) (k1_t91 : Fin (k1_t91_loop v1674 v1676).trips) (k1_t92 : Fin (k1_t92_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t92
  let v3026 : BitVec 32 := Scalar.addi v2976 arg46
  let v3077 : Index := Scalar.indexCast v3026
  let c160_1456 : Index := 160#32
  ![v3077.toNat, 160]
def k1_off1249 (v1674 : BitVec 32) (v1676 : BitVec 32) (k1_t91 : Fin (k1_t91_loop v1674 v1676).trips) (k1_t92 : Fin (k1_t92_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t92
  let v3026 : BitVec 32 := Scalar.addi v2976 arg46
  let v3082 : Index := Scalar.indexCast v3026
  let c176_1457 : Index := 176#32
  ![v3082.toNat, 176]
def k1_off1250 (v1674 : BitVec 32) (v1676 : BitVec 32) (k1_t91 : Fin (k1_t91_loop v1674 v1676).trips) (k1_t92 : Fin (k1_t92_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t92
  let v3026 : BitVec 32 := Scalar.addi v2976 arg46
  let v3087 : Index := Scalar.indexCast v3026
  let c192_1458 : Index := 192#32
  ![v3087.toNat, 192]
def k1_off1251 (v1674 : BitVec 32) (v1676 : BitVec 32) (k1_t91 : Fin (k1_t91_loop v1674 v1676).trips) (k1_t92 : Fin (k1_t92_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t92
  let v3026 : BitVec 32 := Scalar.addi v2976 arg46
  let v3092 : Index := Scalar.indexCast v3026
  let c208_1459 : Index := 208#32
  ![v3092.toNat, 208]
def k1_off1252 (v1674 : BitVec 32) (v1676 : BitVec 32) (k1_t91 : Fin (k1_t91_loop v1674 v1676).trips) (k1_t92 : Fin (k1_t92_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t92
  let v3026 : BitVec 32 := Scalar.addi v2976 arg46
  let v3097 : Index := Scalar.indexCast v3026
  let c224_1460 : Index := 224#32
  ![v3097.toNat, 224]
def k1_off1253 (v1674 : BitVec 32) (v1676 : BitVec 32) (k1_t91 : Fin (k1_t91_loop v1674 v1676).trips) (k1_t92 : Fin (k1_t92_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t92
  let v3026 : BitVec 32 := Scalar.addi v2976 arg46
  let v3102 : Index := Scalar.indexCast v3026
  let c240_1461 : Index := 240#32
  ![v3102.toNat, 240]
@[reducible] def k1_t93_loop (v1674 : BitVec 32) (v1676 : BitVec 32) (k1_t91 : Fin (k1_t91_loop v1674 v1676).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off1254 (v1674 : BitVec 32) (v1676 : BitVec 32) (k1_t91 : Fin (k1_t91_loop v1674 v1676).trips) (k1_t93 : Fin (k1_t93_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t93
  let v3026 : BitVec 32 := Scalar.addi v2976 arg46
  let v3027 : Index := Scalar.indexCast v3026
  let c0_1446 : Index := 0#32
  ![v3027.toNat, 0]
def k1_off1255 (v1674 : BitVec 32) (v1676 : BitVec 32) (k1_t91 : Fin (k1_t91_loop v1674 v1676).trips) (k1_t93 : Fin (k1_t93_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t93
  let v3026 : BitVec 32 := Scalar.addi v2976 arg46
  let v3032 : Index := Scalar.indexCast v3026
  let c16_1447 : Index := 16#32
  ![v3032.toNat, 16]
def k1_off1256 (v1674 : BitVec 32) (v1676 : BitVec 32) (k1_t91 : Fin (k1_t91_loop v1674 v1676).trips) (k1_t93 : Fin (k1_t93_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t93
  let v3026 : BitVec 32 := Scalar.addi v2976 arg46
  let v3037 : Index := Scalar.indexCast v3026
  let c32_1448 : Index := 32#32
  ![v3037.toNat, 32]
def k1_off1257 (v1674 : BitVec 32) (v1676 : BitVec 32) (k1_t91 : Fin (k1_t91_loop v1674 v1676).trips) (k1_t93 : Fin (k1_t93_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t93
  let v3026 : BitVec 32 := Scalar.addi v2976 arg46
  let v3042 : Index := Scalar.indexCast v3026
  let c48_1449 : Index := 48#32
  ![v3042.toNat, 48]
def k1_off1258 (v1674 : BitVec 32) (v1676 : BitVec 32) (k1_t91 : Fin (k1_t91_loop v1674 v1676).trips) (k1_t93 : Fin (k1_t93_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t93
  let v3026 : BitVec 32 := Scalar.addi v2976 arg46
  let v3047 : Index := Scalar.indexCast v3026
  let c64_1450 : Index := 64#32
  ![v3047.toNat, 64]
def k1_off1259 (v1674 : BitVec 32) (v1676 : BitVec 32) (k1_t91 : Fin (k1_t91_loop v1674 v1676).trips) (k1_t93 : Fin (k1_t93_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t93
  let v3026 : BitVec 32 := Scalar.addi v2976 arg46
  let v3052 : Index := Scalar.indexCast v3026
  let c80_1451 : Index := 80#32
  ![v3052.toNat, 80]
def k1_off1260 (v1674 : BitVec 32) (v1676 : BitVec 32) (k1_t91 : Fin (k1_t91_loop v1674 v1676).trips) (k1_t93 : Fin (k1_t93_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t93
  let v3026 : BitVec 32 := Scalar.addi v2976 arg46
  let v3057 : Index := Scalar.indexCast v3026
  let c96_1452 : Index := 96#32
  ![v3057.toNat, 96]
def k1_off1261 (v1674 : BitVec 32) (v1676 : BitVec 32) (k1_t91 : Fin (k1_t91_loop v1674 v1676).trips) (k1_t93 : Fin (k1_t93_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t93
  let v3026 : BitVec 32 := Scalar.addi v2976 arg46
  let v3062 : Index := Scalar.indexCast v3026
  let c112_1453 : Index := 112#32
  ![v3062.toNat, 112]
def k1_off1262 (v1674 : BitVec 32) (v1676 : BitVec 32) (k1_t91 : Fin (k1_t91_loop v1674 v1676).trips) (k1_t93 : Fin (k1_t93_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t93
  let v3026 : BitVec 32 := Scalar.addi v2976 arg46
  let v3067 : Index := Scalar.indexCast v3026
  let c128_1454 : Index := 128#32
  ![v3067.toNat, 128]
def k1_off1263 (v1674 : BitVec 32) (v1676 : BitVec 32) (k1_t91 : Fin (k1_t91_loop v1674 v1676).trips) (k1_t93 : Fin (k1_t93_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t93
  let v3026 : BitVec 32 := Scalar.addi v2976 arg46
  let v3072 : Index := Scalar.indexCast v3026
  let c144_1455 : Index := 144#32
  ![v3072.toNat, 144]
def k1_off1264 (v1674 : BitVec 32) (v1676 : BitVec 32) (k1_t91 : Fin (k1_t91_loop v1674 v1676).trips) (k1_t93 : Fin (k1_t93_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t93
  let v3026 : BitVec 32 := Scalar.addi v2976 arg46
  let v3077 : Index := Scalar.indexCast v3026
  let c160_1456 : Index := 160#32
  ![v3077.toNat, 160]
def k1_off1265 (v1674 : BitVec 32) (v1676 : BitVec 32) (k1_t91 : Fin (k1_t91_loop v1674 v1676).trips) (k1_t93 : Fin (k1_t93_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t93
  let v3026 : BitVec 32 := Scalar.addi v2976 arg46
  let v3082 : Index := Scalar.indexCast v3026
  let c176_1457 : Index := 176#32
  ![v3082.toNat, 176]
def k1_off1266 (v1674 : BitVec 32) (v1676 : BitVec 32) (k1_t91 : Fin (k1_t91_loop v1674 v1676).trips) (k1_t93 : Fin (k1_t93_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t93
  let v3026 : BitVec 32 := Scalar.addi v2976 arg46
  let v3087 : Index := Scalar.indexCast v3026
  let c192_1458 : Index := 192#32
  ![v3087.toNat, 192]
def k1_off1267 (v1674 : BitVec 32) (v1676 : BitVec 32) (k1_t91 : Fin (k1_t91_loop v1674 v1676).trips) (k1_t93 : Fin (k1_t93_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t93
  let v3026 : BitVec 32 := Scalar.addi v2976 arg46
  let v3092 : Index := Scalar.indexCast v3026
  let c208_1459 : Index := 208#32
  ![v3092.toNat, 208]
def k1_off1268 (v1674 : BitVec 32) (v1676 : BitVec 32) (k1_t91 : Fin (k1_t91_loop v1674 v1676).trips) (k1_t93 : Fin (k1_t93_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t93
  let v3026 : BitVec 32 := Scalar.addi v2976 arg46
  let v3097 : Index := Scalar.indexCast v3026
  let c224_1460 : Index := 224#32
  ![v3097.toNat, 224]
def k1_off1269 (v1674 : BitVec 32) (v1676 : BitVec 32) (k1_t91 : Fin (k1_t91_loop v1674 v1676).trips) (k1_t93 : Fin (k1_t93_loop v1674 v1676 k1_t91).trips) : Fin 2 → Nat :=
  let c2_i32_1408 : BitVec 32 := 2#32
  let c0_i32_811 : BitVec 32 := 0#32
  let c1_i32_813 : BitVec 32 := 1#32
  let arg13 : BitVec 32 := Scf.iv c0_i32_811 c1_i32_813 k1_t91
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t93
  let v3026 : BitVec 32 := Scalar.addi v2976 arg46
  let v3102 : Index := Scalar.indexCast v3026
  let c240_1461 : Index := 240#32
  ![v3102.toNat, 240]
def k1_off1270 (i : grid1.Coords) (v1674 : BitVec 32) (v1676 : BitVec 32) (k1_t91 : Fin (k1_t91_loop v1674 v1676).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v1674 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond85 (v1674 : BitVec 32) (v1676 : BitVec 32) (k1_t91 : Fin (k1_t91_loop v1674 v1676).trips) : BitVec 1 :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let v2989 : BitVec 1 := Scalar.cmpi .slt v2988 v1698
  let v2990 : BitVec 32 := Scalar.extui v2989
  let c0_i32_1428 : BitVec 32 := 0#32
  let v2991 : BitVec 1 := Scalar.cmpi .ne v2990 c0_i32_1428
  v2991

def k1_off1271 (i : grid1.Coords) (v1674 : BitVec 32) (v1676 : BitVec 32) (k1_t91 : Fin (k1_t91_loop v1674 v1676).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v1674 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond86 (v1674 : BitVec 32) (v1676 : BitVec 32) (k1_t91 : Fin (k1_t91_loop v1674 v1676).trips) : BitVec 1 :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let v3050 : BitVec 1 := Scalar.cmpi .slt v3049 v1698
  let v3051 : BitVec 32 := Scalar.extui v3050
  let c0_i32_1457 : BitVec 32 := 0#32
  let v3052 : BitVec 1 := Scalar.cmpi .ne v3051 c0_i32_1457
  v3052

@[reducible] def k1_t94_loop (v1674 : BitVec 32) (v1676 : BitVec 32) (k1_t91 : Fin (k1_t91_loop v1674 v1676).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off1272 (v1674 : BitVec 32) (v1676 : BitVec 32) (k1_t91 : Fin (k1_t91_loop v1674 v1676).trips) (k1_t94 : Fin (k1_t94_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t94
  let v3026 : BitVec 32 := Scalar.addi v3015 arg46
  let v3027 : Index := Scalar.indexCast v3026
  let c0_1446 : Index := 0#32
  ![v3027.toNat, 0]
def k1_off1273 (v1674 : BitVec 32) (v1676 : BitVec 32) (k1_t91 : Fin (k1_t91_loop v1674 v1676).trips) (k1_t94 : Fin (k1_t94_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t94
  let v3026 : BitVec 32 := Scalar.addi v3015 arg46
  let v3032 : Index := Scalar.indexCast v3026
  let c16_1447 : Index := 16#32
  ![v3032.toNat, 16]
def k1_off1274 (v1674 : BitVec 32) (v1676 : BitVec 32) (k1_t91 : Fin (k1_t91_loop v1674 v1676).trips) (k1_t94 : Fin (k1_t94_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t94
  let v3026 : BitVec 32 := Scalar.addi v3015 arg46
  let v3037 : Index := Scalar.indexCast v3026
  let c32_1448 : Index := 32#32
  ![v3037.toNat, 32]
def k1_off1275 (v1674 : BitVec 32) (v1676 : BitVec 32) (k1_t91 : Fin (k1_t91_loop v1674 v1676).trips) (k1_t94 : Fin (k1_t94_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t94
  let v3026 : BitVec 32 := Scalar.addi v3015 arg46
  let v3042 : Index := Scalar.indexCast v3026
  let c48_1449 : Index := 48#32
  ![v3042.toNat, 48]
def k1_off1276 (v1674 : BitVec 32) (v1676 : BitVec 32) (k1_t91 : Fin (k1_t91_loop v1674 v1676).trips) (k1_t94 : Fin (k1_t94_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t94
  let v3026 : BitVec 32 := Scalar.addi v3015 arg46
  let v3047 : Index := Scalar.indexCast v3026
  let c64_1450 : Index := 64#32
  ![v3047.toNat, 64]
def k1_off1277 (v1674 : BitVec 32) (v1676 : BitVec 32) (k1_t91 : Fin (k1_t91_loop v1674 v1676).trips) (k1_t94 : Fin (k1_t94_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t94
  let v3026 : BitVec 32 := Scalar.addi v3015 arg46
  let v3052 : Index := Scalar.indexCast v3026
  let c80_1451 : Index := 80#32
  ![v3052.toNat, 80]
def k1_off1278 (v1674 : BitVec 32) (v1676 : BitVec 32) (k1_t91 : Fin (k1_t91_loop v1674 v1676).trips) (k1_t94 : Fin (k1_t94_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t94
  let v3026 : BitVec 32 := Scalar.addi v3015 arg46
  let v3057 : Index := Scalar.indexCast v3026
  let c96_1452 : Index := 96#32
  ![v3057.toNat, 96]
def k1_off1279 (v1674 : BitVec 32) (v1676 : BitVec 32) (k1_t91 : Fin (k1_t91_loop v1674 v1676).trips) (k1_t94 : Fin (k1_t94_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t94
  let v3026 : BitVec 32 := Scalar.addi v3015 arg46
  let v3062 : Index := Scalar.indexCast v3026
  let c112_1453 : Index := 112#32
  ![v3062.toNat, 112]
def k1_off1280 (v1674 : BitVec 32) (v1676 : BitVec 32) (k1_t91 : Fin (k1_t91_loop v1674 v1676).trips) (k1_t94 : Fin (k1_t94_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t94
  let v3026 : BitVec 32 := Scalar.addi v3015 arg46
  let v3067 : Index := Scalar.indexCast v3026
  let c128_1454 : Index := 128#32
  ![v3067.toNat, 128]
def k1_off1281 (v1674 : BitVec 32) (v1676 : BitVec 32) (k1_t91 : Fin (k1_t91_loop v1674 v1676).trips) (k1_t94 : Fin (k1_t94_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t94
  let v3026 : BitVec 32 := Scalar.addi v3015 arg46
  let v3072 : Index := Scalar.indexCast v3026
  let c144_1455 : Index := 144#32
  ![v3072.toNat, 144]
def k1_off1282 (v1674 : BitVec 32) (v1676 : BitVec 32) (k1_t91 : Fin (k1_t91_loop v1674 v1676).trips) (k1_t94 : Fin (k1_t94_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t94
  let v3026 : BitVec 32 := Scalar.addi v3015 arg46
  let v3077 : Index := Scalar.indexCast v3026
  let c160_1456 : Index := 160#32
  ![v3077.toNat, 160]
def k1_off1283 (v1674 : BitVec 32) (v1676 : BitVec 32) (k1_t91 : Fin (k1_t91_loop v1674 v1676).trips) (k1_t94 : Fin (k1_t94_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t94
  let v3026 : BitVec 32 := Scalar.addi v3015 arg46
  let v3082 : Index := Scalar.indexCast v3026
  let c176_1457 : Index := 176#32
  ![v3082.toNat, 176]
def k1_off1284 (v1674 : BitVec 32) (v1676 : BitVec 32) (k1_t91 : Fin (k1_t91_loop v1674 v1676).trips) (k1_t94 : Fin (k1_t94_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t94
  let v3026 : BitVec 32 := Scalar.addi v3015 arg46
  let v3087 : Index := Scalar.indexCast v3026
  let c192_1458 : Index := 192#32
  ![v3087.toNat, 192]
def k1_off1285 (v1674 : BitVec 32) (v1676 : BitVec 32) (k1_t91 : Fin (k1_t91_loop v1674 v1676).trips) (k1_t94 : Fin (k1_t94_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t94
  let v3026 : BitVec 32 := Scalar.addi v3015 arg46
  let v3092 : Index := Scalar.indexCast v3026
  let c208_1459 : Index := 208#32
  ![v3092.toNat, 208]
def k1_off1286 (v1674 : BitVec 32) (v1676 : BitVec 32) (k1_t91 : Fin (k1_t91_loop v1674 v1676).trips) (k1_t94 : Fin (k1_t94_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t94
  let v3026 : BitVec 32 := Scalar.addi v3015 arg46
  let v3097 : Index := Scalar.indexCast v3026
  let c224_1460 : Index := 224#32
  ![v3097.toNat, 224]
def k1_off1287 (v1674 : BitVec 32) (v1676 : BitVec 32) (k1_t91 : Fin (k1_t91_loop v1674 v1676).trips) (k1_t94 : Fin (k1_t94_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t94
  let v3026 : BitVec 32 := Scalar.addi v3015 arg46
  let v3102 : Index := Scalar.indexCast v3026
  let c240_1461 : Index := 240#32
  ![v3102.toNat, 240]
@[reducible] def k1_t95_loop (v1674 : BitVec 32) (v1676 : BitVec 32) (k1_t91 : Fin (k1_t91_loop v1674 v1676).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off1288 (v1674 : BitVec 32) (v1676 : BitVec 32) (k1_t91 : Fin (k1_t91_loop v1674 v1676).trips) (k1_t95 : Fin (k1_t95_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t95
  let v3026 : BitVec 32 := Scalar.addi v3015 arg46
  let v3027 : Index := Scalar.indexCast v3026
  let c0_1446 : Index := 0#32
  ![v3027.toNat, 0]
def k1_off1289 (v1674 : BitVec 32) (v1676 : BitVec 32) (k1_t91 : Fin (k1_t91_loop v1674 v1676).trips) (k1_t95 : Fin (k1_t95_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t95
  let v3026 : BitVec 32 := Scalar.addi v3015 arg46
  let v3032 : Index := Scalar.indexCast v3026
  let c16_1447 : Index := 16#32
  ![v3032.toNat, 16]
def k1_off1290 (v1674 : BitVec 32) (v1676 : BitVec 32) (k1_t91 : Fin (k1_t91_loop v1674 v1676).trips) (k1_t95 : Fin (k1_t95_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t95
  let v3026 : BitVec 32 := Scalar.addi v3015 arg46
  let v3037 : Index := Scalar.indexCast v3026
  let c32_1448 : Index := 32#32
  ![v3037.toNat, 32]
def k1_off1291 (v1674 : BitVec 32) (v1676 : BitVec 32) (k1_t91 : Fin (k1_t91_loop v1674 v1676).trips) (k1_t95 : Fin (k1_t95_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t95
  let v3026 : BitVec 32 := Scalar.addi v3015 arg46
  let v3042 : Index := Scalar.indexCast v3026
  let c48_1449 : Index := 48#32
  ![v3042.toNat, 48]
def k1_off1292 (v1674 : BitVec 32) (v1676 : BitVec 32) (k1_t91 : Fin (k1_t91_loop v1674 v1676).trips) (k1_t95 : Fin (k1_t95_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t95
  let v3026 : BitVec 32 := Scalar.addi v3015 arg46
  let v3047 : Index := Scalar.indexCast v3026
  let c64_1450 : Index := 64#32
  ![v3047.toNat, 64]
def k1_off1293 (v1674 : BitVec 32) (v1676 : BitVec 32) (k1_t91 : Fin (k1_t91_loop v1674 v1676).trips) (k1_t95 : Fin (k1_t95_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t95
  let v3026 : BitVec 32 := Scalar.addi v3015 arg46
  let v3052 : Index := Scalar.indexCast v3026
  let c80_1451 : Index := 80#32
  ![v3052.toNat, 80]
def k1_off1294 (v1674 : BitVec 32) (v1676 : BitVec 32) (k1_t91 : Fin (k1_t91_loop v1674 v1676).trips) (k1_t95 : Fin (k1_t95_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t95
  let v3026 : BitVec 32 := Scalar.addi v3015 arg46
  let v3057 : Index := Scalar.indexCast v3026
  let c96_1452 : Index := 96#32
  ![v3057.toNat, 96]
def k1_off1295 (v1674 : BitVec 32) (v1676 : BitVec 32) (k1_t91 : Fin (k1_t91_loop v1674 v1676).trips) (k1_t95 : Fin (k1_t95_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t95
  let v3026 : BitVec 32 := Scalar.addi v3015 arg46
  let v3062 : Index := Scalar.indexCast v3026
  let c112_1453 : Index := 112#32
  ![v3062.toNat, 112]
def k1_off1296 (v1674 : BitVec 32) (v1676 : BitVec 32) (k1_t91 : Fin (k1_t91_loop v1674 v1676).trips) (k1_t95 : Fin (k1_t95_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t95
  let v3026 : BitVec 32 := Scalar.addi v3015 arg46
  let v3067 : Index := Scalar.indexCast v3026
  let c128_1454 : Index := 128#32
  ![v3067.toNat, 128]
def k1_off1297 (v1674 : BitVec 32) (v1676 : BitVec 32) (k1_t91 : Fin (k1_t91_loop v1674 v1676).trips) (k1_t95 : Fin (k1_t95_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t95
  let v3026 : BitVec 32 := Scalar.addi v3015 arg46
  let v3072 : Index := Scalar.indexCast v3026
  let c144_1455 : Index := 144#32
  ![v3072.toNat, 144]
def k1_off1298 (v1674 : BitVec 32) (v1676 : BitVec 32) (k1_t91 : Fin (k1_t91_loop v1674 v1676).trips) (k1_t95 : Fin (k1_t95_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t95
  let v3026 : BitVec 32 := Scalar.addi v3015 arg46
  let v3077 : Index := Scalar.indexCast v3026
  let c160_1456 : Index := 160#32
  ![v3077.toNat, 160]
def k1_off1299 (v1674 : BitVec 32) (v1676 : BitVec 32) (k1_t91 : Fin (k1_t91_loop v1674 v1676).trips) (k1_t95 : Fin (k1_t95_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t95
  let v3026 : BitVec 32 := Scalar.addi v3015 arg46
  let v3082 : Index := Scalar.indexCast v3026
  let c176_1457 : Index := 176#32
  ![v3082.toNat, 176]
def k1_off1300 (v1674 : BitVec 32) (v1676 : BitVec 32) (k1_t91 : Fin (k1_t91_loop v1674 v1676).trips) (k1_t95 : Fin (k1_t95_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t95
  let v3026 : BitVec 32 := Scalar.addi v3015 arg46
  let v3087 : Index := Scalar.indexCast v3026
  let c192_1458 : Index := 192#32
  ![v3087.toNat, 192]
def k1_off1301 (v1674 : BitVec 32) (v1676 : BitVec 32) (k1_t91 : Fin (k1_t91_loop v1674 v1676).trips) (k1_t95 : Fin (k1_t95_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t95
  let v3026 : BitVec 32 := Scalar.addi v3015 arg46
  let v3092 : Index := Scalar.indexCast v3026
  let c208_1459 : Index := 208#32
  ![v3092.toNat, 208]
def k1_off1302 (v1674 : BitVec 32) (v1676 : BitVec 32) (k1_t91 : Fin (k1_t91_loop v1674 v1676).trips) (k1_t95 : Fin (k1_t95_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t95
  let v3026 : BitVec 32 := Scalar.addi v3015 arg46
  let v3097 : Index := Scalar.indexCast v3026
  let c224_1460 : Index := 224#32
  ![v3097.toNat, 224]
def k1_off1303 (v1674 : BitVec 32) (v1676 : BitVec 32) (k1_t91 : Fin (k1_t91_loop v1674 v1676).trips) (k1_t95 : Fin (k1_t95_loop v1674 v1676 k1_t91).trips) : Fin 2 → Nat :=
  let c2_i32_1426 : BitVec 32 := 2#32
  let c0_i32_811 : BitVec 32 := 0#32
  let c1_i32_813 : BitVec 32 := 1#32
  let arg13 : BitVec 32 := Scf.iv c0_i32_811 c1_i32_813 k1_t91
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t95
  let v3026 : BitVec 32 := Scalar.addi v3015 arg46
  let v3102 : Index := Scalar.indexCast v3026
  let c240_1461 : Index := 240#32
  ![v3102.toNat, 240]
@[reducible] def k1_t96_loop (v1674 : BitVec 32) (v1676 : BitVec 32) : Scf.Loop 32 :=
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let v1721 : BitVec 32 := Scalar.addi c0_i32_811 v1720
  let c1_i32_814 : BitVec 32 := 1#32
  ⟨v1724, v1721, c1_i32_814⟩
def k1_off1304 (i : grid1.Coords) (v1674 : BitVec 32) (v1676 : BitVec 32) (k1_t96 : Fin (k1_t96_loop v1674 v1676).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1446 : BitVec 32 := 64#32
  let v3026 : BitVec 32 := Scalar.muli v2949 c64_i32_1446
  let v3027 : BitVec 32 := Scalar.addi v1674 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond87 (v1674 : BitVec 32) (v1676 : BitVec 32) (k1_t96 : Fin (k1_t96_loop v1674 v1676).trips) : BitVec 1 :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let v2950 : BitVec 1 := Scalar.cmpi .slt v2949 v1698
  let v2951 : BitVec 32 := Scalar.extui v2950
  let c0_i32_1409 : BitVec 32 := 0#32
  let v2952 : BitVec 1 := Scalar.cmpi .ne v2951 c0_i32_1409
  v2952

def k1_off1305 (i : grid1.Coords) (v1674 : BitVec 32) (v1676 : BitVec 32) (k1_t96 : Fin (k1_t96_loop v1674 v1676).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v1674 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond88 (v1674 : BitVec 32) (v1676 : BitVec 32) (k1_t96 : Fin (k1_t96_loop v1674 v1676).trips) : BitVec 1 :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c1_i32_1456 : BitVec 32 := 1#32
  let v3049 : BitVec 32 := Scalar.addi v2949 c1_i32_1456
  let v3050 : BitVec 1 := Scalar.cmpi .slt v3049 v1698
  let v3051 : BitVec 32 := Scalar.extui v3050
  let c0_i32_1457 : BitVec 32 := 0#32
  let v3052 : BitVec 1 := Scalar.cmpi .ne v3051 c0_i32_1457
  v3052

@[reducible] def k1_t97_loop (v1674 : BitVec 32) (v1676 : BitVec 32) (k1_t96 : Fin (k1_t96_loop v1674 v1676).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off1306 (v1674 : BitVec 32) (v1676 : BitVec 32) (k1_t96 : Fin (k1_t96_loop v1674 v1676).trips) (k1_t97 : Fin (k1_t97_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t97
  let v3026 : BitVec 32 := Scalar.addi v2976 arg46
  let v3027 : Index := Scalar.indexCast v3026
  let c0_1446 : Index := 0#32
  ![v3027.toNat, 0]
def k1_off1307 (v1674 : BitVec 32) (v1676 : BitVec 32) (k1_t96 : Fin (k1_t96_loop v1674 v1676).trips) (k1_t97 : Fin (k1_t97_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t97
  let v3026 : BitVec 32 := Scalar.addi v2976 arg46
  let v3032 : Index := Scalar.indexCast v3026
  let c16_1447 : Index := 16#32
  ![v3032.toNat, 16]
def k1_off1308 (v1674 : BitVec 32) (v1676 : BitVec 32) (k1_t96 : Fin (k1_t96_loop v1674 v1676).trips) (k1_t97 : Fin (k1_t97_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t97
  let v3026 : BitVec 32 := Scalar.addi v2976 arg46
  let v3037 : Index := Scalar.indexCast v3026
  let c32_1448 : Index := 32#32
  ![v3037.toNat, 32]
def k1_off1309 (v1674 : BitVec 32) (v1676 : BitVec 32) (k1_t96 : Fin (k1_t96_loop v1674 v1676).trips) (k1_t97 : Fin (k1_t97_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t97
  let v3026 : BitVec 32 := Scalar.addi v2976 arg46
  let v3042 : Index := Scalar.indexCast v3026
  let c48_1449 : Index := 48#32
  ![v3042.toNat, 48]
def k1_off1310 (v1674 : BitVec 32) (v1676 : BitVec 32) (k1_t96 : Fin (k1_t96_loop v1674 v1676).trips) (k1_t97 : Fin (k1_t97_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t97
  let v3026 : BitVec 32 := Scalar.addi v2976 arg46
  let v3047 : Index := Scalar.indexCast v3026
  let c64_1450 : Index := 64#32
  ![v3047.toNat, 64]
def k1_off1311 (v1674 : BitVec 32) (v1676 : BitVec 32) (k1_t96 : Fin (k1_t96_loop v1674 v1676).trips) (k1_t97 : Fin (k1_t97_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t97
  let v3026 : BitVec 32 := Scalar.addi v2976 arg46
  let v3052 : Index := Scalar.indexCast v3026
  let c80_1451 : Index := 80#32
  ![v3052.toNat, 80]
def k1_off1312 (v1674 : BitVec 32) (v1676 : BitVec 32) (k1_t96 : Fin (k1_t96_loop v1674 v1676).trips) (k1_t97 : Fin (k1_t97_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t97
  let v3026 : BitVec 32 := Scalar.addi v2976 arg46
  let v3057 : Index := Scalar.indexCast v3026
  let c96_1452 : Index := 96#32
  ![v3057.toNat, 96]
def k1_off1313 (v1674 : BitVec 32) (v1676 : BitVec 32) (k1_t96 : Fin (k1_t96_loop v1674 v1676).trips) (k1_t97 : Fin (k1_t97_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t97
  let v3026 : BitVec 32 := Scalar.addi v2976 arg46
  let v3062 : Index := Scalar.indexCast v3026
  let c112_1453 : Index := 112#32
  ![v3062.toNat, 112]
def k1_off1314 (v1674 : BitVec 32) (v1676 : BitVec 32) (k1_t96 : Fin (k1_t96_loop v1674 v1676).trips) (k1_t97 : Fin (k1_t97_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t97
  let v3026 : BitVec 32 := Scalar.addi v2976 arg46
  let v3067 : Index := Scalar.indexCast v3026
  let c128_1454 : Index := 128#32
  ![v3067.toNat, 128]
def k1_off1315 (v1674 : BitVec 32) (v1676 : BitVec 32) (k1_t96 : Fin (k1_t96_loop v1674 v1676).trips) (k1_t97 : Fin (k1_t97_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t97
  let v3026 : BitVec 32 := Scalar.addi v2976 arg46
  let v3072 : Index := Scalar.indexCast v3026
  let c144_1455 : Index := 144#32
  ![v3072.toNat, 144]
def k1_off1316 (v1674 : BitVec 32) (v1676 : BitVec 32) (k1_t96 : Fin (k1_t96_loop v1674 v1676).trips) (k1_t97 : Fin (k1_t97_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t97
  let v3026 : BitVec 32 := Scalar.addi v2976 arg46
  let v3077 : Index := Scalar.indexCast v3026
  let c160_1456 : Index := 160#32
  ![v3077.toNat, 160]
def k1_off1317 (v1674 : BitVec 32) (v1676 : BitVec 32) (k1_t96 : Fin (k1_t96_loop v1674 v1676).trips) (k1_t97 : Fin (k1_t97_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t97
  let v3026 : BitVec 32 := Scalar.addi v2976 arg46
  let v3082 : Index := Scalar.indexCast v3026
  let c176_1457 : Index := 176#32
  ![v3082.toNat, 176]
def k1_off1318 (v1674 : BitVec 32) (v1676 : BitVec 32) (k1_t96 : Fin (k1_t96_loop v1674 v1676).trips) (k1_t97 : Fin (k1_t97_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t97
  let v3026 : BitVec 32 := Scalar.addi v2976 arg46
  let v3087 : Index := Scalar.indexCast v3026
  let c192_1458 : Index := 192#32
  ![v3087.toNat, 192]
def k1_off1319 (v1674 : BitVec 32) (v1676 : BitVec 32) (k1_t96 : Fin (k1_t96_loop v1674 v1676).trips) (k1_t97 : Fin (k1_t97_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t97
  let v3026 : BitVec 32 := Scalar.addi v2976 arg46
  let v3092 : Index := Scalar.indexCast v3026
  let c208_1459 : Index := 208#32
  ![v3092.toNat, 208]
def k1_off1320 (v1674 : BitVec 32) (v1676 : BitVec 32) (k1_t96 : Fin (k1_t96_loop v1674 v1676).trips) (k1_t97 : Fin (k1_t97_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t97
  let v3026 : BitVec 32 := Scalar.addi v2976 arg46
  let v3097 : Index := Scalar.indexCast v3026
  let c224_1460 : Index := 224#32
  ![v3097.toNat, 224]
def k1_off1321 (v1674 : BitVec 32) (v1676 : BitVec 32) (k1_t96 : Fin (k1_t96_loop v1674 v1676).trips) (k1_t97 : Fin (k1_t97_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t97
  let v3026 : BitVec 32 := Scalar.addi v2976 arg46
  let v3102 : Index := Scalar.indexCast v3026
  let c240_1461 : Index := 240#32
  ![v3102.toNat, 240]
@[reducible] def k1_t98_loop (v1674 : BitVec 32) (v1676 : BitVec 32) (k1_t96 : Fin (k1_t96_loop v1674 v1676).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off1322 (v1674 : BitVec 32) (v1676 : BitVec 32) (k1_t96 : Fin (k1_t96_loop v1674 v1676).trips) (k1_t98 : Fin (k1_t98_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t98
  let v3026 : BitVec 32 := Scalar.addi v2976 arg46
  let v3027 : Index := Scalar.indexCast v3026
  let c0_1446 : Index := 0#32
  ![v3027.toNat, 0]
def k1_off1323 (v1674 : BitVec 32) (v1676 : BitVec 32) (k1_t96 : Fin (k1_t96_loop v1674 v1676).trips) (k1_t98 : Fin (k1_t98_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t98
  let v3026 : BitVec 32 := Scalar.addi v2976 arg46
  let v3032 : Index := Scalar.indexCast v3026
  let c16_1447 : Index := 16#32
  ![v3032.toNat, 16]
def k1_off1324 (v1674 : BitVec 32) (v1676 : BitVec 32) (k1_t96 : Fin (k1_t96_loop v1674 v1676).trips) (k1_t98 : Fin (k1_t98_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t98
  let v3026 : BitVec 32 := Scalar.addi v2976 arg46
  let v3037 : Index := Scalar.indexCast v3026
  let c32_1448 : Index := 32#32
  ![v3037.toNat, 32]
def k1_off1325 (v1674 : BitVec 32) (v1676 : BitVec 32) (k1_t96 : Fin (k1_t96_loop v1674 v1676).trips) (k1_t98 : Fin (k1_t98_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t98
  let v3026 : BitVec 32 := Scalar.addi v2976 arg46
  let v3042 : Index := Scalar.indexCast v3026
  let c48_1449 : Index := 48#32
  ![v3042.toNat, 48]
def k1_off1326 (v1674 : BitVec 32) (v1676 : BitVec 32) (k1_t96 : Fin (k1_t96_loop v1674 v1676).trips) (k1_t98 : Fin (k1_t98_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t98
  let v3026 : BitVec 32 := Scalar.addi v2976 arg46
  let v3047 : Index := Scalar.indexCast v3026
  let c64_1450 : Index := 64#32
  ![v3047.toNat, 64]
def k1_off1327 (v1674 : BitVec 32) (v1676 : BitVec 32) (k1_t96 : Fin (k1_t96_loop v1674 v1676).trips) (k1_t98 : Fin (k1_t98_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t98
  let v3026 : BitVec 32 := Scalar.addi v2976 arg46
  let v3052 : Index := Scalar.indexCast v3026
  let c80_1451 : Index := 80#32
  ![v3052.toNat, 80]
def k1_off1328 (v1674 : BitVec 32) (v1676 : BitVec 32) (k1_t96 : Fin (k1_t96_loop v1674 v1676).trips) (k1_t98 : Fin (k1_t98_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t98
  let v3026 : BitVec 32 := Scalar.addi v2976 arg46
  let v3057 : Index := Scalar.indexCast v3026
  let c96_1452 : Index := 96#32
  ![v3057.toNat, 96]
def k1_off1329 (v1674 : BitVec 32) (v1676 : BitVec 32) (k1_t96 : Fin (k1_t96_loop v1674 v1676).trips) (k1_t98 : Fin (k1_t98_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t98
  let v3026 : BitVec 32 := Scalar.addi v2976 arg46
  let v3062 : Index := Scalar.indexCast v3026
  let c112_1453 : Index := 112#32
  ![v3062.toNat, 112]
def k1_off1330 (v1674 : BitVec 32) (v1676 : BitVec 32) (k1_t96 : Fin (k1_t96_loop v1674 v1676).trips) (k1_t98 : Fin (k1_t98_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t98
  let v3026 : BitVec 32 := Scalar.addi v2976 arg46
  let v3067 : Index := Scalar.indexCast v3026
  let c128_1454 : Index := 128#32
  ![v3067.toNat, 128]
def k1_off1331 (v1674 : BitVec 32) (v1676 : BitVec 32) (k1_t96 : Fin (k1_t96_loop v1674 v1676).trips) (k1_t98 : Fin (k1_t98_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t98
  let v3026 : BitVec 32 := Scalar.addi v2976 arg46
  let v3072 : Index := Scalar.indexCast v3026
  let c144_1455 : Index := 144#32
  ![v3072.toNat, 144]
def k1_off1332 (v1674 : BitVec 32) (v1676 : BitVec 32) (k1_t96 : Fin (k1_t96_loop v1674 v1676).trips) (k1_t98 : Fin (k1_t98_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t98
  let v3026 : BitVec 32 := Scalar.addi v2976 arg46
  let v3077 : Index := Scalar.indexCast v3026
  let c160_1456 : Index := 160#32
  ![v3077.toNat, 160]
def k1_off1333 (v1674 : BitVec 32) (v1676 : BitVec 32) (k1_t96 : Fin (k1_t96_loop v1674 v1676).trips) (k1_t98 : Fin (k1_t98_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t98
  let v3026 : BitVec 32 := Scalar.addi v2976 arg46
  let v3082 : Index := Scalar.indexCast v3026
  let c176_1457 : Index := 176#32
  ![v3082.toNat, 176]
def k1_off1334 (v1674 : BitVec 32) (v1676 : BitVec 32) (k1_t96 : Fin (k1_t96_loop v1674 v1676).trips) (k1_t98 : Fin (k1_t98_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t98
  let v3026 : BitVec 32 := Scalar.addi v2976 arg46
  let v3087 : Index := Scalar.indexCast v3026
  let c192_1458 : Index := 192#32
  ![v3087.toNat, 192]
def k1_off1335 (v1674 : BitVec 32) (v1676 : BitVec 32) (k1_t96 : Fin (k1_t96_loop v1674 v1676).trips) (k1_t98 : Fin (k1_t98_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t98
  let v3026 : BitVec 32 := Scalar.addi v2976 arg46
  let v3092 : Index := Scalar.indexCast v3026
  let c208_1459 : Index := 208#32
  ![v3092.toNat, 208]
def k1_off1336 (v1674 : BitVec 32) (v1676 : BitVec 32) (k1_t96 : Fin (k1_t96_loop v1674 v1676).trips) (k1_t98 : Fin (k1_t98_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t98
  let v3026 : BitVec 32 := Scalar.addi v2976 arg46
  let v3097 : Index := Scalar.indexCast v3026
  let c224_1460 : Index := 224#32
  ![v3097.toNat, 224]
def k1_off1337 (v1674 : BitVec 32) (v1676 : BitVec 32) (k1_t96 : Fin (k1_t96_loop v1674 v1676).trips) (k1_t98 : Fin (k1_t98_loop v1674 v1676 k1_t96).trips) : Fin 2 → Nat :=
  let c2_i32_1408 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2949 : BitVec 32 := Scalar.muli c2_i32_1408 arg13
  let c64_i32_1410 : BitVec 32 := 64#32
  let v2953 : BitVec 32 := Scalar.muli v2949 c64_i32_1410
  let v2954 : BitVec 32 := Scalar.addi v1674 v2953
  let c64_i32_1411 : BitVec 32 := 64#32
  let v2955 : BitVec 32 := Scalar.muli v2949 c64_i32_1411
  let v2956 : BitVec 32 := Scalar.addi v1674 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1676 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t98
  let v3026 : BitVec 32 := Scalar.addi v2976 arg46
  let v3102 : Index := Scalar.indexCast v3026
  let c240_1461 : Index := 240#32
  ![v3102.toNat, 240]
def k1_off1338 (i : grid1.Coords) (v1674 : BitVec 32) (v1676 : BitVec 32) (k1_t96 : Fin (k1_t96_loop v1674 v1676).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v1674 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond89 (v1674 : BitVec 32) (v1676 : BitVec 32) (k1_t96 : Fin (k1_t96_loop v1674 v1676).trips) : BitVec 1 :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let v2989 : BitVec 1 := Scalar.cmpi .slt v2988 v1698
  let v2990 : BitVec 32 := Scalar.extui v2989
  let c0_i32_1428 : BitVec 32 := 0#32
  let v2991 : BitVec 1 := Scalar.cmpi .ne v2990 c0_i32_1428
  v2991

def k1_off1339 (i : grid1.Coords) (v1674 : BitVec 32) (v1676 : BitVec 32) (k1_t96 : Fin (k1_t96_loop v1674 v1676).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v1674 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond90 (v1674 : BitVec 32) (v1676 : BitVec 32) (k1_t96 : Fin (k1_t96_loop v1674 v1676).trips) : BitVec 1 :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v3050 : BitVec 1 := Scalar.cmpi .slt v3049 v1698
  let v3051 : BitVec 32 := Scalar.extui v3050
  let c0_i32_1457 : BitVec 32 := 0#32
  let v3052 : BitVec 1 := Scalar.cmpi .ne v3051 c0_i32_1457
  v3052

@[reducible] def k1_t99_loop (v1674 : BitVec 32) (v1676 : BitVec 32) (k1_t96 : Fin (k1_t96_loop v1674 v1676).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off1340 (v1674 : BitVec 32) (v1676 : BitVec 32) (k1_t96 : Fin (k1_t96_loop v1674 v1676).trips) (k1_t99 : Fin (k1_t99_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t99
  let v3026 : BitVec 32 := Scalar.addi v3015 arg46
  let v3027 : Index := Scalar.indexCast v3026
  let c0_1446 : Index := 0#32
  ![v3027.toNat, 0]
def k1_off1341 (v1674 : BitVec 32) (v1676 : BitVec 32) (k1_t96 : Fin (k1_t96_loop v1674 v1676).trips) (k1_t99 : Fin (k1_t99_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t99
  let v3026 : BitVec 32 := Scalar.addi v3015 arg46
  let v3032 : Index := Scalar.indexCast v3026
  let c16_1447 : Index := 16#32
  ![v3032.toNat, 16]
def k1_off1342 (v1674 : BitVec 32) (v1676 : BitVec 32) (k1_t96 : Fin (k1_t96_loop v1674 v1676).trips) (k1_t99 : Fin (k1_t99_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t99
  let v3026 : BitVec 32 := Scalar.addi v3015 arg46
  let v3037 : Index := Scalar.indexCast v3026
  let c32_1448 : Index := 32#32
  ![v3037.toNat, 32]
def k1_off1343 (v1674 : BitVec 32) (v1676 : BitVec 32) (k1_t96 : Fin (k1_t96_loop v1674 v1676).trips) (k1_t99 : Fin (k1_t99_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t99
  let v3026 : BitVec 32 := Scalar.addi v3015 arg46
  let v3042 : Index := Scalar.indexCast v3026
  let c48_1449 : Index := 48#32
  ![v3042.toNat, 48]
def k1_off1344 (v1674 : BitVec 32) (v1676 : BitVec 32) (k1_t96 : Fin (k1_t96_loop v1674 v1676).trips) (k1_t99 : Fin (k1_t99_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t99
  let v3026 : BitVec 32 := Scalar.addi v3015 arg46
  let v3047 : Index := Scalar.indexCast v3026
  let c64_1450 : Index := 64#32
  ![v3047.toNat, 64]
def k1_off1345 (v1674 : BitVec 32) (v1676 : BitVec 32) (k1_t96 : Fin (k1_t96_loop v1674 v1676).trips) (k1_t99 : Fin (k1_t99_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t99
  let v3026 : BitVec 32 := Scalar.addi v3015 arg46
  let v3052 : Index := Scalar.indexCast v3026
  let c80_1451 : Index := 80#32
  ![v3052.toNat, 80]
def k1_off1346 (v1674 : BitVec 32) (v1676 : BitVec 32) (k1_t96 : Fin (k1_t96_loop v1674 v1676).trips) (k1_t99 : Fin (k1_t99_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t99
  let v3026 : BitVec 32 := Scalar.addi v3015 arg46
  let v3057 : Index := Scalar.indexCast v3026
  let c96_1452 : Index := 96#32
  ![v3057.toNat, 96]
def k1_off1347 (v1674 : BitVec 32) (v1676 : BitVec 32) (k1_t96 : Fin (k1_t96_loop v1674 v1676).trips) (k1_t99 : Fin (k1_t99_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t99
  let v3026 : BitVec 32 := Scalar.addi v3015 arg46
  let v3062 : Index := Scalar.indexCast v3026
  let c112_1453 : Index := 112#32
  ![v3062.toNat, 112]
def k1_off1348 (v1674 : BitVec 32) (v1676 : BitVec 32) (k1_t96 : Fin (k1_t96_loop v1674 v1676).trips) (k1_t99 : Fin (k1_t99_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t99
  let v3026 : BitVec 32 := Scalar.addi v3015 arg46
  let v3067 : Index := Scalar.indexCast v3026
  let c128_1454 : Index := 128#32
  ![v3067.toNat, 128]
def k1_off1349 (v1674 : BitVec 32) (v1676 : BitVec 32) (k1_t96 : Fin (k1_t96_loop v1674 v1676).trips) (k1_t99 : Fin (k1_t99_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t99
  let v3026 : BitVec 32 := Scalar.addi v3015 arg46
  let v3072 : Index := Scalar.indexCast v3026
  let c144_1455 : Index := 144#32
  ![v3072.toNat, 144]
def k1_off1350 (v1674 : BitVec 32) (v1676 : BitVec 32) (k1_t96 : Fin (k1_t96_loop v1674 v1676).trips) (k1_t99 : Fin (k1_t99_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t99
  let v3026 : BitVec 32 := Scalar.addi v3015 arg46
  let v3077 : Index := Scalar.indexCast v3026
  let c160_1456 : Index := 160#32
  ![v3077.toNat, 160]
def k1_off1351 (v1674 : BitVec 32) (v1676 : BitVec 32) (k1_t96 : Fin (k1_t96_loop v1674 v1676).trips) (k1_t99 : Fin (k1_t99_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t99
  let v3026 : BitVec 32 := Scalar.addi v3015 arg46
  let v3082 : Index := Scalar.indexCast v3026
  let c176_1457 : Index := 176#32
  ![v3082.toNat, 176]
def k1_off1352 (v1674 : BitVec 32) (v1676 : BitVec 32) (k1_t96 : Fin (k1_t96_loop v1674 v1676).trips) (k1_t99 : Fin (k1_t99_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t99
  let v3026 : BitVec 32 := Scalar.addi v3015 arg46
  let v3087 : Index := Scalar.indexCast v3026
  let c192_1458 : Index := 192#32
  ![v3087.toNat, 192]
def k1_off1353 (v1674 : BitVec 32) (v1676 : BitVec 32) (k1_t96 : Fin (k1_t96_loop v1674 v1676).trips) (k1_t99 : Fin (k1_t99_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t99
  let v3026 : BitVec 32 := Scalar.addi v3015 arg46
  let v3092 : Index := Scalar.indexCast v3026
  let c208_1459 : Index := 208#32
  ![v3092.toNat, 208]
def k1_off1354 (v1674 : BitVec 32) (v1676 : BitVec 32) (k1_t96 : Fin (k1_t96_loop v1674 v1676).trips) (k1_t99 : Fin (k1_t99_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t99
  let v3026 : BitVec 32 := Scalar.addi v3015 arg46
  let v3097 : Index := Scalar.indexCast v3026
  let c224_1460 : Index := 224#32
  ![v3097.toNat, 224]
def k1_off1355 (v1674 : BitVec 32) (v1676 : BitVec 32) (k1_t96 : Fin (k1_t96_loop v1674 v1676).trips) (k1_t99 : Fin (k1_t99_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t99
  let v3026 : BitVec 32 := Scalar.addi v3015 arg46
  let v3102 : Index := Scalar.indexCast v3026
  let c240_1461 : Index := 240#32
  ![v3102.toNat, 240]
@[reducible] def k1_t100_loop (v1674 : BitVec 32) (v1676 : BitVec 32) (k1_t96 : Fin (k1_t96_loop v1674 v1676).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off1356 (v1674 : BitVec 32) (v1676 : BitVec 32) (k1_t96 : Fin (k1_t96_loop v1674 v1676).trips) (k1_t100 : Fin (k1_t100_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t100
  let v3026 : BitVec 32 := Scalar.addi v3015 arg46
  let v3027 : Index := Scalar.indexCast v3026
  let c0_1446 : Index := 0#32
  ![v3027.toNat, 0]
def k1_off1357 (v1674 : BitVec 32) (v1676 : BitVec 32) (k1_t96 : Fin (k1_t96_loop v1674 v1676).trips) (k1_t100 : Fin (k1_t100_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t100
  let v3026 : BitVec 32 := Scalar.addi v3015 arg46
  let v3032 : Index := Scalar.indexCast v3026
  let c16_1447 : Index := 16#32
  ![v3032.toNat, 16]
def k1_off1358 (v1674 : BitVec 32) (v1676 : BitVec 32) (k1_t96 : Fin (k1_t96_loop v1674 v1676).trips) (k1_t100 : Fin (k1_t100_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t100
  let v3026 : BitVec 32 := Scalar.addi v3015 arg46
  let v3037 : Index := Scalar.indexCast v3026
  let c32_1448 : Index := 32#32
  ![v3037.toNat, 32]
def k1_off1359 (v1674 : BitVec 32) (v1676 : BitVec 32) (k1_t96 : Fin (k1_t96_loop v1674 v1676).trips) (k1_t100 : Fin (k1_t100_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t100
  let v3026 : BitVec 32 := Scalar.addi v3015 arg46
  let v3042 : Index := Scalar.indexCast v3026
  let c48_1449 : Index := 48#32
  ![v3042.toNat, 48]
def k1_off1360 (v1674 : BitVec 32) (v1676 : BitVec 32) (k1_t96 : Fin (k1_t96_loop v1674 v1676).trips) (k1_t100 : Fin (k1_t100_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t100
  let v3026 : BitVec 32 := Scalar.addi v3015 arg46
  let v3047 : Index := Scalar.indexCast v3026
  let c64_1450 : Index := 64#32
  ![v3047.toNat, 64]
def k1_off1361 (v1674 : BitVec 32) (v1676 : BitVec 32) (k1_t96 : Fin (k1_t96_loop v1674 v1676).trips) (k1_t100 : Fin (k1_t100_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t100
  let v3026 : BitVec 32 := Scalar.addi v3015 arg46
  let v3052 : Index := Scalar.indexCast v3026
  let c80_1451 : Index := 80#32
  ![v3052.toNat, 80]
def k1_off1362 (v1674 : BitVec 32) (v1676 : BitVec 32) (k1_t96 : Fin (k1_t96_loop v1674 v1676).trips) (k1_t100 : Fin (k1_t100_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t100
  let v3026 : BitVec 32 := Scalar.addi v3015 arg46
  let v3057 : Index := Scalar.indexCast v3026
  let c96_1452 : Index := 96#32
  ![v3057.toNat, 96]
def k1_off1363 (v1674 : BitVec 32) (v1676 : BitVec 32) (k1_t96 : Fin (k1_t96_loop v1674 v1676).trips) (k1_t100 : Fin (k1_t100_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t100
  let v3026 : BitVec 32 := Scalar.addi v3015 arg46
  let v3062 : Index := Scalar.indexCast v3026
  let c112_1453 : Index := 112#32
  ![v3062.toNat, 112]
def k1_off1364 (v1674 : BitVec 32) (v1676 : BitVec 32) (k1_t96 : Fin (k1_t96_loop v1674 v1676).trips) (k1_t100 : Fin (k1_t100_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t100
  let v3026 : BitVec 32 := Scalar.addi v3015 arg46
  let v3067 : Index := Scalar.indexCast v3026
  let c128_1454 : Index := 128#32
  ![v3067.toNat, 128]
def k1_off1365 (v1674 : BitVec 32) (v1676 : BitVec 32) (k1_t96 : Fin (k1_t96_loop v1674 v1676).trips) (k1_t100 : Fin (k1_t100_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t100
  let v3026 : BitVec 32 := Scalar.addi v3015 arg46
  let v3072 : Index := Scalar.indexCast v3026
  let c144_1455 : Index := 144#32
  ![v3072.toNat, 144]
def k1_off1366 (v1674 : BitVec 32) (v1676 : BitVec 32) (k1_t96 : Fin (k1_t96_loop v1674 v1676).trips) (k1_t100 : Fin (k1_t100_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t100
  let v3026 : BitVec 32 := Scalar.addi v3015 arg46
  let v3077 : Index := Scalar.indexCast v3026
  let c160_1456 : Index := 160#32
  ![v3077.toNat, 160]
def k1_off1367 (v1674 : BitVec 32) (v1676 : BitVec 32) (k1_t96 : Fin (k1_t96_loop v1674 v1676).trips) (k1_t100 : Fin (k1_t100_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t100
  let v3026 : BitVec 32 := Scalar.addi v3015 arg46
  let v3082 : Index := Scalar.indexCast v3026
  let c176_1457 : Index := 176#32
  ![v3082.toNat, 176]
def k1_off1368 (v1674 : BitVec 32) (v1676 : BitVec 32) (k1_t96 : Fin (k1_t96_loop v1674 v1676).trips) (k1_t100 : Fin (k1_t100_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t100
  let v3026 : BitVec 32 := Scalar.addi v3015 arg46
  let v3087 : Index := Scalar.indexCast v3026
  let c192_1458 : Index := 192#32
  ![v3087.toNat, 192]
def k1_off1369 (v1674 : BitVec 32) (v1676 : BitVec 32) (k1_t96 : Fin (k1_t96_loop v1674 v1676).trips) (k1_t100 : Fin (k1_t100_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t100
  let v3026 : BitVec 32 := Scalar.addi v3015 arg46
  let v3092 : Index := Scalar.indexCast v3026
  let c208_1459 : Index := 208#32
  ![v3092.toNat, 208]
def k1_off1370 (v1674 : BitVec 32) (v1676 : BitVec 32) (k1_t96 : Fin (k1_t96_loop v1674 v1676).trips) (k1_t100 : Fin (k1_t100_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t100
  let v3026 : BitVec 32 := Scalar.addi v3015 arg46
  let v3097 : Index := Scalar.indexCast v3026
  let c224_1460 : Index := 224#32
  ![v3097.toNat, 224]
def k1_off1371 (v1674 : BitVec 32) (v1676 : BitVec 32) (k1_t96 : Fin (k1_t96_loop v1674 v1676).trips) (k1_t100 : Fin (k1_t100_loop v1674 v1676 k1_t96).trips) : Fin 2 → Nat :=
  let c2_i32_1426 : BitVec 32 := 2#32
  let c0_i32_811 : BitVec 32 := 0#32
  let v1679 : BitVec 32 := Scalar.subi v1676 v1674
  let c64_i32_792 : BitVec 32 := 64#32
  let v1680 : BitVec 32 := Scalar.addi v1679 c64_i32_792
  let c1_i32_793 : BitVec 32 := 1#32
  let v1681 : BitVec 32 := Scalar.subi v1680 c1_i32_793
  let c0_i32_795 : BitVec 32 := 0#32
  let v1683 : BitVec 1 := Scalar.cmpi .sgt v1681 c0_i32_795
  let v1684 : BitVec 32 := Scalar.extui v1683
  let c0_i32_796 : BitVec 32 := 0#32
  let v1685 : BitVec 1 := Scalar.cmpi .slt v1681 c0_i32_796
  let v1686 : BitVec 32 := Scalar.extui v1685
  let v1687 : BitVec 32 := Scalar.subi v1684 v1686
  let c64_i32_794 : BitVec 32 := 64#32
  let c0_i32_797 : BitVec 32 := 0#32
  let v1688 : BitVec 1 := Scalar.cmpi .sgt c64_i32_794 c0_i32_797
  let v1689 : BitVec 32 := Scalar.extui v1688
  let c0_i32_798 : BitVec 32 := 0#32
  let v1690 : BitVec 1 := Scalar.cmpi .slt c64_i32_794 c0_i32_798
  let v1691 : BitVec 32 := Scalar.extui v1690
  let v1692 : BitVec 32 := Scalar.subi v1689 v1691
  let v1693 : BitVec 1 := Scalar.cmpi .ne v1687 v1692
  let v1694 : BitVec 32 := Scalar.remsi v1681 c64_i32_794
  let c0_i32_799 : BitVec 32 := 0#32
  let v1695 : BitVec 1 := Scalar.cmpi .ne v1694 c0_i32_799
  let v1696 : BitVec 1 := Scalar.andi v1693 v1695
  let v1682 : BitVec 32 := Scalar.divsi v1681 c64_i32_794
  let c1_i32_800 : BitVec 32 := 1#32
  let v1697 : BitVec 32 := Scalar.subi v1682 c1_i32_800
  let v1698 : BitVec 32 := Scalar.select v1696 v1697 v1682
  let c1_i32_803 : BitVec 32 := 1#32
  let v1702 : BitVec 32 := Scalar.addi v1698 c1_i32_803
  let c0_i32_805 : BitVec 32 := 0#32
  let v1704 : BitVec 1 := Scalar.cmpi .sgt v1702 c0_i32_805
  let v1705 : BitVec 32 := Scalar.extui v1704
  let c0_i32_806 : BitVec 32 := 0#32
  let v1706 : BitVec 1 := Scalar.cmpi .slt v1702 c0_i32_806
  let v1707 : BitVec 32 := Scalar.extui v1706
  let v1708 : BitVec 32 := Scalar.subi v1705 v1707
  let c2_i32_804 : BitVec 32 := 2#32
  let c0_i32_807 : BitVec 32 := 0#32
  let v1709 : BitVec 1 := Scalar.cmpi .sgt c2_i32_804 c0_i32_807
  let v1710 : BitVec 32 := Scalar.extui v1709
  let c0_i32_808 : BitVec 32 := 0#32
  let v1711 : BitVec 1 := Scalar.cmpi .slt c2_i32_804 c0_i32_808
  let v1712 : BitVec 32 := Scalar.extui v1711
  let v1713 : BitVec 32 := Scalar.subi v1710 v1712
  let v1714 : BitVec 1 := Scalar.cmpi .ne v1708 v1713
  let v1715 : BitVec 32 := Scalar.remsi v1702 c2_i32_804
  let c0_i32_809 : BitVec 32 := 0#32
  let v1716 : BitVec 1 := Scalar.cmpi .ne v1715 c0_i32_809
  let v1717 : BitVec 1 := Scalar.andi v1714 v1716
  let v1703 : BitVec 32 := Scalar.divsi v1702 c2_i32_804
  let c1_i32_810 : BitVec 32 := 1#32
  let v1718 : BitVec 32 := Scalar.subi v1703 c1_i32_810
  let v1719 : BitVec 32 := Scalar.select v1717 v1718 v1703
  let v1720 : BitVec 32 := Scalar.subi v1719 c0_i32_811
  let c1_i32_812 : BitVec 32 := 1#32
  let v1722 : BitVec 32 := Scalar.divsi v1720 c1_i32_812
  let v1723 : BitVec 32 := Scalar.muli v1722 c1_i32_812
  let v1724 : BitVec 32 := Scalar.addi c0_i32_811 v1723
  let c1_i32_814 : BitVec 32 := 1#32
  let arg13 : BitVec 32 := Scf.iv v1724 c1_i32_814 k1_t96
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1674 v2992
  let c64_i32_1430 : BitVec 32 := 64#32
  let v2994 : BitVec 32 := Scalar.muli v2988 c64_i32_1430
  let v2995 : BitVec 32 := Scalar.addi v1674 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1676 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t100
  let v3026 : BitVec 32 := Scalar.addi v3015 arg46
  let v3102 : Index := Scalar.indexCast v3026
  let c240_1461 : Index := 240#32
  ![v3102.toNat, 240]

def k1_chk10_0 (i : grid1.Coords) (v1674 : BitVec 32) (v1676 : BitVec 32) : Prop :=
  (∀ (k1_h82 : k1_cond82 v1674 v1676 = 1#1), ∀ a, (k1_off1235 i v1674) a + S72x256.size a ≤ S100000x512.size a) ∧
  ((k1_t91_loop v1674 v1676).OK) ∧
  (∀ k1_t91 : Fin (k1_t91_loop v1674 v1676).trips, ∀ (k1_h83 : k1_cond83 v1674 v1676 k1_t91 = 1#1), ∀ a, (k1_off1236 i v1674 v1676 k1_t91) a + S72x256.size a ≤ S100000x512.size a) ∧
  (∀ k1_t91 : Fin (k1_t91_loop v1674 v1676).trips, ∀ (k1_h83 : k1_cond83 v1674 v1676 k1_t91 = 1#1), ∀ (k1_h84 : k1_cond84 v1674 v1676 k1_t91 = 1#1), ∀ a, (k1_off1237 i v1674 v1676 k1_t91) a + S72x256.size a ≤ S100000x512.size a) ∧
  (∀ k1_t91 : Fin (k1_t91_loop v1674 v1676).trips, (k1_t92_loop v1674 v1676 k1_t91).OK) ∧
  (∀ (k1_t91 : Fin (k1_t91_loop v1674 v1676).trips) (k1_t92 : Fin (k1_t92_loop v1674 v1676 k1_t91).trips), ∀ a, (k1_off1238 v1674 v1676 k1_t91 k1_t92) a + S1x16.size a ≤ S72x256.size a) ∧
  (∀ (k1_t91 : Fin (k1_t91_loop v1674 v1676).trips) (k1_t92 : Fin (k1_t92_loop v1674 v1676 k1_t91).trips), ∀ a, (k1_off1239 v1674 v1676 k1_t91 k1_t92) a + S1x16.size a ≤ S72x256.size a) ∧
  (∀ (k1_t91 : Fin (k1_t91_loop v1674 v1676).trips) (k1_t92 : Fin (k1_t92_loop v1674 v1676 k1_t91).trips), ∀ a, (k1_off1240 v1674 v1676 k1_t91 k1_t92) a + S1x16.size a ≤ S72x256.size a) ∧
  (∀ (k1_t91 : Fin (k1_t91_loop v1674 v1676).trips) (k1_t92 : Fin (k1_t92_loop v1674 v1676 k1_t91).trips), ∀ a, (k1_off1241 v1674 v1676 k1_t91 k1_t92) a + S1x16.size a ≤ S72x256.size a) ∧
  (∀ (k1_t91 : Fin (k1_t91_loop v1674 v1676).trips) (k1_t92 : Fin (k1_t92_loop v1674 v1676 k1_t91).trips), ∀ a, (k1_off1242 v1674 v1676 k1_t91 k1_t92) a + S1x16.size a ≤ S72x256.size a) ∧
  (∀ (k1_t91 : Fin (k1_t91_loop v1674 v1676).trips) (k1_t92 : Fin (k1_t92_loop v1674 v1676 k1_t91).trips), ∀ a, (k1_off1243 v1674 v1676 k1_t91 k1_t92) a + S1x16.size a ≤ S72x256.size a) ∧
  (∀ (k1_t91 : Fin (k1_t91_loop v1674 v1676).trips) (k1_t92 : Fin (k1_t92_loop v1674 v1676 k1_t91).trips), ∀ a, (k1_off1244 v1674 v1676 k1_t91 k1_t92) a + S1x16.size a ≤ S72x256.size a) ∧
  (∀ (k1_t91 : Fin (k1_t91_loop v1674 v1676).trips) (k1_t92 : Fin (k1_t92_loop v1674 v1676 k1_t91).trips), ∀ a, (k1_off1245 v1674 v1676 k1_t91 k1_t92) a + S1x16.size a ≤ S72x256.size a) ∧
  (∀ (k1_t91 : Fin (k1_t91_loop v1674 v1676).trips) (k1_t92 : Fin (k1_t92_loop v1674 v1676 k1_t91).trips), ∀ a, (k1_off1246 v1674 v1676 k1_t91 k1_t92) a + S1x16.size a ≤ S72x256.size a) ∧
  (∀ (k1_t91 : Fin (k1_t91_loop v1674 v1676).trips) (k1_t92 : Fin (k1_t92_loop v1674 v1676 k1_t91).trips), ∀ a, (k1_off1247 v1674 v1676 k1_t91 k1_t92) a + S1x16.size a ≤ S72x256.size a) ∧
  (∀ (k1_t91 : Fin (k1_t91_loop v1674 v1676).trips) (k1_t92 : Fin (k1_t92_loop v1674 v1676 k1_t91).trips), ∀ a, (k1_off1248 v1674 v1676 k1_t91 k1_t92) a + S1x16.size a ≤ S72x256.size a) ∧
  (∀ (k1_t91 : Fin (k1_t91_loop v1674 v1676).trips) (k1_t92 : Fin (k1_t92_loop v1674 v1676 k1_t91).trips), ∀ a, (k1_off1249 v1674 v1676 k1_t91 k1_t92) a + S1x16.size a ≤ S72x256.size a) ∧
  (∀ (k1_t91 : Fin (k1_t91_loop v1674 v1676).trips) (k1_t92 : Fin (k1_t92_loop v1674 v1676 k1_t91).trips), ∀ a, (k1_off1250 v1674 v1676 k1_t91 k1_t92) a + S1x16.size a ≤ S72x256.size a) ∧
  (∀ (k1_t91 : Fin (k1_t91_loop v1674 v1676).trips) (k1_t92 : Fin (k1_t92_loop v1674 v1676 k1_t91).trips), ∀ a, (k1_off1251 v1674 v1676 k1_t91 k1_t92) a + S1x16.size a ≤ S72x256.size a) ∧
  (∀ (k1_t91 : Fin (k1_t91_loop v1674 v1676).trips) (k1_t92 : Fin (k1_t92_loop v1674 v1676 k1_t91).trips), ∀ a, (k1_off1252 v1674 v1676 k1_t91 k1_t92) a + S1x16.size a ≤ S72x256.size a) ∧
  (∀ (k1_t91 : Fin (k1_t91_loop v1674 v1676).trips) (k1_t92 : Fin (k1_t92_loop v1674 v1676 k1_t91).trips), ∀ a, (k1_off1253 v1674 v1676 k1_t91 k1_t92) a + S1x16.size a ≤ S72x256.size a) ∧
  (∀ k1_t91 : Fin (k1_t91_loop v1674 v1676).trips, (k1_t93_loop v1674 v1676 k1_t91).OK) ∧
  (∀ (k1_t91 : Fin (k1_t91_loop v1674 v1676).trips) (k1_t93 : Fin (k1_t93_loop v1674 v1676 k1_t91).trips), ∀ a, (k1_off1254 v1674 v1676 k1_t91 k1_t93) a + S1x16.size a ≤ S72x256.size a) ∧
  (∀ (k1_t91 : Fin (k1_t91_loop v1674 v1676).trips) (k1_t93 : Fin (k1_t93_loop v1674 v1676 k1_t91).trips), ∀ a, (k1_off1255 v1674 v1676 k1_t91 k1_t93) a + S1x16.size a ≤ S72x256.size a) ∧
  (∀ (k1_t91 : Fin (k1_t91_loop v1674 v1676).trips) (k1_t93 : Fin (k1_t93_loop v1674 v1676 k1_t91).trips), ∀ a, (k1_off1256 v1674 v1676 k1_t91 k1_t93) a + S1x16.size a ≤ S72x256.size a) ∧
  (∀ (k1_t91 : Fin (k1_t91_loop v1674 v1676).trips) (k1_t93 : Fin (k1_t93_loop v1674 v1676 k1_t91).trips), ∀ a, (k1_off1257 v1674 v1676 k1_t91 k1_t93) a + S1x16.size a ≤ S72x256.size a) ∧
  (∀ (k1_t91 : Fin (k1_t91_loop v1674 v1676).trips) (k1_t93 : Fin (k1_t93_loop v1674 v1676 k1_t91).trips), ∀ a, (k1_off1258 v1674 v1676 k1_t91 k1_t93) a + S1x16.size a ≤ S72x256.size a) ∧
  (∀ (k1_t91 : Fin (k1_t91_loop v1674 v1676).trips) (k1_t93 : Fin (k1_t93_loop v1674 v1676 k1_t91).trips), ∀ a, (k1_off1259 v1674 v1676 k1_t91 k1_t93) a + S1x16.size a ≤ S72x256.size a) ∧
  (∀ (k1_t91 : Fin (k1_t91_loop v1674 v1676).trips) (k1_t93 : Fin (k1_t93_loop v1674 v1676 k1_t91).trips), ∀ a, (k1_off1260 v1674 v1676 k1_t91 k1_t93) a + S1x16.size a ≤ S72x256.size a) ∧
  (∀ (k1_t91 : Fin (k1_t91_loop v1674 v1676).trips) (k1_t93 : Fin (k1_t93_loop v1674 v1676 k1_t91).trips), ∀ a, (k1_off1261 v1674 v1676 k1_t91 k1_t93) a + S1x16.size a ≤ S72x256.size a) ∧
  (∀ (k1_t91 : Fin (k1_t91_loop v1674 v1676).trips) (k1_t93 : Fin (k1_t93_loop v1674 v1676 k1_t91).trips), ∀ a, (k1_off1262 v1674 v1676 k1_t91 k1_t93) a + S1x16.size a ≤ S72x256.size a) ∧
  (∀ (k1_t91 : Fin (k1_t91_loop v1674 v1676).trips) (k1_t93 : Fin (k1_t93_loop v1674 v1676 k1_t91).trips), ∀ a, (k1_off1263 v1674 v1676 k1_t91 k1_t93) a + S1x16.size a ≤ S72x256.size a)
def k1_chk10_1 (i : grid1.Coords) (v1674 : BitVec 32) (v1676 : BitVec 32) : Prop :=
  (∀ (k1_t91 : Fin (k1_t91_loop v1674 v1676).trips) (k1_t93 : Fin (k1_t93_loop v1674 v1676 k1_t91).trips), ∀ a, (k1_off1264 v1674 v1676 k1_t91 k1_t93) a + S1x16.size a ≤ S72x256.size a) ∧
  (∀ (k1_t91 : Fin (k1_t91_loop v1674 v1676).trips) (k1_t93 : Fin (k1_t93_loop v1674 v1676 k1_t91).trips), ∀ a, (k1_off1265 v1674 v1676 k1_t91 k1_t93) a + S1x16.size a ≤ S72x256.size a) ∧
  (∀ (k1_t91 : Fin (k1_t91_loop v1674 v1676).trips) (k1_t93 : Fin (k1_t93_loop v1674 v1676 k1_t91).trips), ∀ a, (k1_off1266 v1674 v1676 k1_t91 k1_t93) a + S1x16.size a ≤ S72x256.size a) ∧
  (∀ (k1_t91 : Fin (k1_t91_loop v1674 v1676).trips) (k1_t93 : Fin (k1_t93_loop v1674 v1676 k1_t91).trips), ∀ a, (k1_off1267 v1674 v1676 k1_t91 k1_t93) a + S1x16.size a ≤ S72x256.size a) ∧
  (∀ (k1_t91 : Fin (k1_t91_loop v1674 v1676).trips) (k1_t93 : Fin (k1_t93_loop v1674 v1676 k1_t91).trips), ∀ a, (k1_off1268 v1674 v1676 k1_t91 k1_t93) a + S1x16.size a ≤ S72x256.size a) ∧
  (∀ (k1_t91 : Fin (k1_t91_loop v1674 v1676).trips) (k1_t93 : Fin (k1_t93_loop v1674 v1676 k1_t91).trips), ∀ a, (k1_off1269 v1674 v1676 k1_t91 k1_t93) a + S1x16.size a ≤ S72x256.size a) ∧
  (∀ k1_t91 : Fin (k1_t91_loop v1674 v1676).trips, ∀ (k1_h85 : k1_cond85 v1674 v1676 k1_t91 = 1#1), ∀ a, (k1_off1270 i v1674 v1676 k1_t91) a + S72x256.size a ≤ S100000x512.size a) ∧
  (∀ k1_t91 : Fin (k1_t91_loop v1674 v1676).trips, ∀ (k1_h85 : k1_cond85 v1674 v1676 k1_t91 = 1#1), ∀ (k1_h86 : k1_cond86 v1674 v1676 k1_t91 = 1#1), ∀ a, (k1_off1271 i v1674 v1676 k1_t91) a + S72x256.size a ≤ S100000x512.size a) ∧
  (∀ k1_t91 : Fin (k1_t91_loop v1674 v1676).trips, (k1_t94_loop v1674 v1676 k1_t91).OK) ∧
  (∀ (k1_t91 : Fin (k1_t91_loop v1674 v1676).trips) (k1_t94 : Fin (k1_t94_loop v1674 v1676 k1_t91).trips), ∀ a, (k1_off1272 v1674 v1676 k1_t91 k1_t94) a + S1x16.size a ≤ S72x256.size a) ∧
  (∀ (k1_t91 : Fin (k1_t91_loop v1674 v1676).trips) (k1_t94 : Fin (k1_t94_loop v1674 v1676 k1_t91).trips), ∀ a, (k1_off1273 v1674 v1676 k1_t91 k1_t94) a + S1x16.size a ≤ S72x256.size a) ∧
  (∀ (k1_t91 : Fin (k1_t91_loop v1674 v1676).trips) (k1_t94 : Fin (k1_t94_loop v1674 v1676 k1_t91).trips), ∀ a, (k1_off1274 v1674 v1676 k1_t91 k1_t94) a + S1x16.size a ≤ S72x256.size a) ∧
  (∀ (k1_t91 : Fin (k1_t91_loop v1674 v1676).trips) (k1_t94 : Fin (k1_t94_loop v1674 v1676 k1_t91).trips), ∀ a, (k1_off1275 v1674 v1676 k1_t91 k1_t94) a + S1x16.size a ≤ S72x256.size a) ∧
  (∀ (k1_t91 : Fin (k1_t91_loop v1674 v1676).trips) (k1_t94 : Fin (k1_t94_loop v1674 v1676 k1_t91).trips), ∀ a, (k1_off1276 v1674 v1676 k1_t91 k1_t94) a + S1x16.size a ≤ S72x256.size a) ∧
  (∀ (k1_t91 : Fin (k1_t91_loop v1674 v1676).trips) (k1_t94 : Fin (k1_t94_loop v1674 v1676 k1_t91).trips), ∀ a, (k1_off1277 v1674 v1676 k1_t91 k1_t94) a + S1x16.size a ≤ S72x256.size a) ∧
  (∀ (k1_t91 : Fin (k1_t91_loop v1674 v1676).trips) (k1_t94 : Fin (k1_t94_loop v1674 v1676 k1_t91).trips), ∀ a, (k1_off1278 v1674 v1676 k1_t91 k1_t94) a + S1x16.size a ≤ S72x256.size a) ∧
  (∀ (k1_t91 : Fin (k1_t91_loop v1674 v1676).trips) (k1_t94 : Fin (k1_t94_loop v1674 v1676 k1_t91).trips), ∀ a, (k1_off1279 v1674 v1676 k1_t91 k1_t94) a + S1x16.size a ≤ S72x256.size a) ∧
  (∀ (k1_t91 : Fin (k1_t91_loop v1674 v1676).trips) (k1_t94 : Fin (k1_t94_loop v1674 v1676 k1_t91).trips), ∀ a, (k1_off1280 v1674 v1676 k1_t91 k1_t94) a + S1x16.size a ≤ S72x256.size a) ∧
  (∀ (k1_t91 : Fin (k1_t91_loop v1674 v1676).trips) (k1_t94 : Fin (k1_t94_loop v1674 v1676 k1_t91).trips), ∀ a, (k1_off1281 v1674 v1676 k1_t91 k1_t94) a + S1x16.size a ≤ S72x256.size a) ∧
  (∀ (k1_t91 : Fin (k1_t91_loop v1674 v1676).trips) (k1_t94 : Fin (k1_t94_loop v1674 v1676 k1_t91).trips), ∀ a, (k1_off1282 v1674 v1676 k1_t91 k1_t94) a + S1x16.size a ≤ S72x256.size a) ∧
  (∀ (k1_t91 : Fin (k1_t91_loop v1674 v1676).trips) (k1_t94 : Fin (k1_t94_loop v1674 v1676 k1_t91).trips), ∀ a, (k1_off1283 v1674 v1676 k1_t91 k1_t94) a + S1x16.size a ≤ S72x256.size a) ∧
  (∀ (k1_t91 : Fin (k1_t91_loop v1674 v1676).trips) (k1_t94 : Fin (k1_t94_loop v1674 v1676 k1_t91).trips), ∀ a, (k1_off1284 v1674 v1676 k1_t91 k1_t94) a + S1x16.size a ≤ S72x256.size a) ∧
  (∀ (k1_t91 : Fin (k1_t91_loop v1674 v1676).trips) (k1_t94 : Fin (k1_t94_loop v1674 v1676 k1_t91).trips), ∀ a, (k1_off1285 v1674 v1676 k1_t91 k1_t94) a + S1x16.size a ≤ S72x256.size a) ∧
  (∀ (k1_t91 : Fin (k1_t91_loop v1674 v1676).trips) (k1_t94 : Fin (k1_t94_loop v1674 v1676 k1_t91).trips), ∀ a, (k1_off1286 v1674 v1676 k1_t91 k1_t94) a + S1x16.size a ≤ S72x256.size a) ∧
  (∀ (k1_t91 : Fin (k1_t91_loop v1674 v1676).trips) (k1_t94 : Fin (k1_t94_loop v1674 v1676 k1_t91).trips), ∀ a, (k1_off1287 v1674 v1676 k1_t91 k1_t94) a + S1x16.size a ≤ S72x256.size a) ∧
  (∀ k1_t91 : Fin (k1_t91_loop v1674 v1676).trips, (k1_t95_loop v1674 v1676 k1_t91).OK) ∧
  (∀ (k1_t91 : Fin (k1_t91_loop v1674 v1676).trips) (k1_t95 : Fin (k1_t95_loop v1674 v1676 k1_t91).trips), ∀ a, (k1_off1288 v1674 v1676 k1_t91 k1_t95) a + S1x16.size a ≤ S72x256.size a) ∧
  (∀ (k1_t91 : Fin (k1_t91_loop v1674 v1676).trips) (k1_t95 : Fin (k1_t95_loop v1674 v1676 k1_t91).trips), ∀ a, (k1_off1289 v1674 v1676 k1_t91 k1_t95) a + S1x16.size a ≤ S72x256.size a) ∧
  (∀ (k1_t91 : Fin (k1_t91_loop v1674 v1676).trips) (k1_t95 : Fin (k1_t95_loop v1674 v1676 k1_t91).trips), ∀ a, (k1_off1290 v1674 v1676 k1_t91 k1_t95) a + S1x16.size a ≤ S72x256.size a) ∧
  (∀ (k1_t91 : Fin (k1_t91_loop v1674 v1676).trips) (k1_t95 : Fin (k1_t95_loop v1674 v1676 k1_t91).trips), ∀ a, (k1_off1291 v1674 v1676 k1_t91 k1_t95) a + S1x16.size a ≤ S72x256.size a) ∧
  (∀ (k1_t91 : Fin (k1_t91_loop v1674 v1676).trips) (k1_t95 : Fin (k1_t95_loop v1674 v1676 k1_t91).trips), ∀ a, (k1_off1292 v1674 v1676 k1_t91 k1_t95) a + S1x16.size a ≤ S72x256.size a) ∧
  (∀ (k1_t91 : Fin (k1_t91_loop v1674 v1676).trips) (k1_t95 : Fin (k1_t95_loop v1674 v1676 k1_t91).trips), ∀ a, (k1_off1293 v1674 v1676 k1_t91 k1_t95) a + S1x16.size a ≤ S72x256.size a)
def k1_chk10_2 (i : grid1.Coords) (v1674 : BitVec 32) (v1676 : BitVec 32) : Prop :=
  (∀ (k1_t91 : Fin (k1_t91_loop v1674 v1676).trips) (k1_t95 : Fin (k1_t95_loop v1674 v1676 k1_t91).trips), ∀ a, (k1_off1294 v1674 v1676 k1_t91 k1_t95) a + S1x16.size a ≤ S72x256.size a) ∧
  (∀ (k1_t91 : Fin (k1_t91_loop v1674 v1676).trips) (k1_t95 : Fin (k1_t95_loop v1674 v1676 k1_t91).trips), ∀ a, (k1_off1295 v1674 v1676 k1_t91 k1_t95) a + S1x16.size a ≤ S72x256.size a) ∧
  (∀ (k1_t91 : Fin (k1_t91_loop v1674 v1676).trips) (k1_t95 : Fin (k1_t95_loop v1674 v1676 k1_t91).trips), ∀ a, (k1_off1296 v1674 v1676 k1_t91 k1_t95) a + S1x16.size a ≤ S72x256.size a) ∧
  (∀ (k1_t91 : Fin (k1_t91_loop v1674 v1676).trips) (k1_t95 : Fin (k1_t95_loop v1674 v1676 k1_t91).trips), ∀ a, (k1_off1297 v1674 v1676 k1_t91 k1_t95) a + S1x16.size a ≤ S72x256.size a) ∧
  (∀ (k1_t91 : Fin (k1_t91_loop v1674 v1676).trips) (k1_t95 : Fin (k1_t95_loop v1674 v1676 k1_t91).trips), ∀ a, (k1_off1298 v1674 v1676 k1_t91 k1_t95) a + S1x16.size a ≤ S72x256.size a) ∧
  (∀ (k1_t91 : Fin (k1_t91_loop v1674 v1676).trips) (k1_t95 : Fin (k1_t95_loop v1674 v1676 k1_t91).trips), ∀ a, (k1_off1299 v1674 v1676 k1_t91 k1_t95) a + S1x16.size a ≤ S72x256.size a) ∧
  (∀ (k1_t91 : Fin (k1_t91_loop v1674 v1676).trips) (k1_t95 : Fin (k1_t95_loop v1674 v1676 k1_t91).trips), ∀ a, (k1_off1300 v1674 v1676 k1_t91 k1_t95) a + S1x16.size a ≤ S72x256.size a) ∧
  (∀ (k1_t91 : Fin (k1_t91_loop v1674 v1676).trips) (k1_t95 : Fin (k1_t95_loop v1674 v1676 k1_t91).trips), ∀ a, (k1_off1301 v1674 v1676 k1_t91 k1_t95) a + S1x16.size a ≤ S72x256.size a) ∧
  (∀ (k1_t91 : Fin (k1_t91_loop v1674 v1676).trips) (k1_t95 : Fin (k1_t95_loop v1674 v1676 k1_t91).trips), ∀ a, (k1_off1302 v1674 v1676 k1_t91 k1_t95) a + S1x16.size a ≤ S72x256.size a) ∧
  (∀ (k1_t91 : Fin (k1_t91_loop v1674 v1676).trips) (k1_t95 : Fin (k1_t95_loop v1674 v1676 k1_t91).trips), ∀ a, (k1_off1303 v1674 v1676 k1_t91 k1_t95) a + S1x16.size a ≤ S72x256.size a) ∧
  ((k1_t96_loop v1674 v1676).OK) ∧
  (∀ k1_t96 : Fin (k1_t96_loop v1674 v1676).trips, ∀ (k1_h87 : k1_cond87 v1674 v1676 k1_t96 = 1#1), ∀ a, (k1_off1304 i v1674 v1676 k1_t96) a + S72x256.size a ≤ S100000x512.size a) ∧
  (∀ k1_t96 : Fin (k1_t96_loop v1674 v1676).trips, ∀ (k1_h87 : k1_cond87 v1674 v1676 k1_t96 = 1#1), ∀ (k1_h88 : k1_cond88 v1674 v1676 k1_t96 = 1#1), ∀ a, (k1_off1305 i v1674 v1676 k1_t96) a + S72x256.size a ≤ S100000x512.size a) ∧
  (∀ k1_t96 : Fin (k1_t96_loop v1674 v1676).trips, (k1_t97_loop v1674 v1676 k1_t96).OK) ∧
  (∀ (k1_t96 : Fin (k1_t96_loop v1674 v1676).trips) (k1_t97 : Fin (k1_t97_loop v1674 v1676 k1_t96).trips), ∀ a, (k1_off1306 v1674 v1676 k1_t96 k1_t97) a + S1x16.size a ≤ S72x256.size a) ∧
  (∀ (k1_t96 : Fin (k1_t96_loop v1674 v1676).trips) (k1_t97 : Fin (k1_t97_loop v1674 v1676 k1_t96).trips), ∀ a, (k1_off1307 v1674 v1676 k1_t96 k1_t97) a + S1x16.size a ≤ S72x256.size a) ∧
  (∀ (k1_t96 : Fin (k1_t96_loop v1674 v1676).trips) (k1_t97 : Fin (k1_t97_loop v1674 v1676 k1_t96).trips), ∀ a, (k1_off1308 v1674 v1676 k1_t96 k1_t97) a + S1x16.size a ≤ S72x256.size a) ∧
  (∀ (k1_t96 : Fin (k1_t96_loop v1674 v1676).trips) (k1_t97 : Fin (k1_t97_loop v1674 v1676 k1_t96).trips), ∀ a, (k1_off1309 v1674 v1676 k1_t96 k1_t97) a + S1x16.size a ≤ S72x256.size a) ∧
  (∀ (k1_t96 : Fin (k1_t96_loop v1674 v1676).trips) (k1_t97 : Fin (k1_t97_loop v1674 v1676 k1_t96).trips), ∀ a, (k1_off1310 v1674 v1676 k1_t96 k1_t97) a + S1x16.size a ≤ S72x256.size a) ∧
  (∀ (k1_t96 : Fin (k1_t96_loop v1674 v1676).trips) (k1_t97 : Fin (k1_t97_loop v1674 v1676 k1_t96).trips), ∀ a, (k1_off1311 v1674 v1676 k1_t96 k1_t97) a + S1x16.size a ≤ S72x256.size a) ∧
  (∀ (k1_t96 : Fin (k1_t96_loop v1674 v1676).trips) (k1_t97 : Fin (k1_t97_loop v1674 v1676 k1_t96).trips), ∀ a, (k1_off1312 v1674 v1676 k1_t96 k1_t97) a + S1x16.size a ≤ S72x256.size a) ∧
  (∀ (k1_t96 : Fin (k1_t96_loop v1674 v1676).trips) (k1_t97 : Fin (k1_t97_loop v1674 v1676 k1_t96).trips), ∀ a, (k1_off1313 v1674 v1676 k1_t96 k1_t97) a + S1x16.size a ≤ S72x256.size a) ∧
  (∀ (k1_t96 : Fin (k1_t96_loop v1674 v1676).trips) (k1_t97 : Fin (k1_t97_loop v1674 v1676 k1_t96).trips), ∀ a, (k1_off1314 v1674 v1676 k1_t96 k1_t97) a + S1x16.size a ≤ S72x256.size a) ∧
  (∀ (k1_t96 : Fin (k1_t96_loop v1674 v1676).trips) (k1_t97 : Fin (k1_t97_loop v1674 v1676 k1_t96).trips), ∀ a, (k1_off1315 v1674 v1676 k1_t96 k1_t97) a + S1x16.size a ≤ S72x256.size a) ∧
  (∀ (k1_t96 : Fin (k1_t96_loop v1674 v1676).trips) (k1_t97 : Fin (k1_t97_loop v1674 v1676 k1_t96).trips), ∀ a, (k1_off1316 v1674 v1676 k1_t96 k1_t97) a + S1x16.size a ≤ S72x256.size a) ∧
  (∀ (k1_t96 : Fin (k1_t96_loop v1674 v1676).trips) (k1_t97 : Fin (k1_t97_loop v1674 v1676 k1_t96).trips), ∀ a, (k1_off1317 v1674 v1676 k1_t96 k1_t97) a + S1x16.size a ≤ S72x256.size a) ∧
  (∀ (k1_t96 : Fin (k1_t96_loop v1674 v1676).trips) (k1_t97 : Fin (k1_t97_loop v1674 v1676 k1_t96).trips), ∀ a, (k1_off1318 v1674 v1676 k1_t96 k1_t97) a + S1x16.size a ≤ S72x256.size a) ∧
  (∀ (k1_t96 : Fin (k1_t96_loop v1674 v1676).trips) (k1_t97 : Fin (k1_t97_loop v1674 v1676 k1_t96).trips), ∀ a, (k1_off1319 v1674 v1676 k1_t96 k1_t97) a + S1x16.size a ≤ S72x256.size a) ∧
  (∀ (k1_t96 : Fin (k1_t96_loop v1674 v1676).trips) (k1_t97 : Fin (k1_t97_loop v1674 v1676 k1_t96).trips), ∀ a, (k1_off1320 v1674 v1676 k1_t96 k1_t97) a + S1x16.size a ≤ S72x256.size a) ∧
  (∀ (k1_t96 : Fin (k1_t96_loop v1674 v1676).trips) (k1_t97 : Fin (k1_t97_loop v1674 v1676 k1_t96).trips), ∀ a, (k1_off1321 v1674 v1676 k1_t96 k1_t97) a + S1x16.size a ≤ S72x256.size a) ∧
  (∀ k1_t96 : Fin (k1_t96_loop v1674 v1676).trips, (k1_t98_loop v1674 v1676 k1_t96).OK) ∧
  (∀ (k1_t96 : Fin (k1_t96_loop v1674 v1676).trips) (k1_t98 : Fin (k1_t98_loop v1674 v1676 k1_t96).trips), ∀ a, (k1_off1322 v1674 v1676 k1_t96 k1_t98) a + S1x16.size a ≤ S72x256.size a)
def k1_chk10_3 (i : grid1.Coords) (v1674 : BitVec 32) (v1676 : BitVec 32) : Prop :=
  (∀ (k1_t96 : Fin (k1_t96_loop v1674 v1676).trips) (k1_t98 : Fin (k1_t98_loop v1674 v1676 k1_t96).trips), ∀ a, (k1_off1323 v1674 v1676 k1_t96 k1_t98) a + S1x16.size a ≤ S72x256.size a) ∧
  (∀ (k1_t96 : Fin (k1_t96_loop v1674 v1676).trips) (k1_t98 : Fin (k1_t98_loop v1674 v1676 k1_t96).trips), ∀ a, (k1_off1324 v1674 v1676 k1_t96 k1_t98) a + S1x16.size a ≤ S72x256.size a) ∧
  (∀ (k1_t96 : Fin (k1_t96_loop v1674 v1676).trips) (k1_t98 : Fin (k1_t98_loop v1674 v1676 k1_t96).trips), ∀ a, (k1_off1325 v1674 v1676 k1_t96 k1_t98) a + S1x16.size a ≤ S72x256.size a) ∧
  (∀ (k1_t96 : Fin (k1_t96_loop v1674 v1676).trips) (k1_t98 : Fin (k1_t98_loop v1674 v1676 k1_t96).trips), ∀ a, (k1_off1326 v1674 v1676 k1_t96 k1_t98) a + S1x16.size a ≤ S72x256.size a) ∧
  (∀ (k1_t96 : Fin (k1_t96_loop v1674 v1676).trips) (k1_t98 : Fin (k1_t98_loop v1674 v1676 k1_t96).trips), ∀ a, (k1_off1327 v1674 v1676 k1_t96 k1_t98) a + S1x16.size a ≤ S72x256.size a) ∧
  (∀ (k1_t96 : Fin (k1_t96_loop v1674 v1676).trips) (k1_t98 : Fin (k1_t98_loop v1674 v1676 k1_t96).trips), ∀ a, (k1_off1328 v1674 v1676 k1_t96 k1_t98) a + S1x16.size a ≤ S72x256.size a) ∧
  (∀ (k1_t96 : Fin (k1_t96_loop v1674 v1676).trips) (k1_t98 : Fin (k1_t98_loop v1674 v1676 k1_t96).trips), ∀ a, (k1_off1329 v1674 v1676 k1_t96 k1_t98) a + S1x16.size a ≤ S72x256.size a) ∧
  (∀ (k1_t96 : Fin (k1_t96_loop v1674 v1676).trips) (k1_t98 : Fin (k1_t98_loop v1674 v1676 k1_t96).trips), ∀ a, (k1_off1330 v1674 v1676 k1_t96 k1_t98) a + S1x16.size a ≤ S72x256.size a) ∧
  (∀ (k1_t96 : Fin (k1_t96_loop v1674 v1676).trips) (k1_t98 : Fin (k1_t98_loop v1674 v1676 k1_t96).trips), ∀ a, (k1_off1331 v1674 v1676 k1_t96 k1_t98) a + S1x16.size a ≤ S72x256.size a) ∧
  (∀ (k1_t96 : Fin (k1_t96_loop v1674 v1676).trips) (k1_t98 : Fin (k1_t98_loop v1674 v1676 k1_t96).trips), ∀ a, (k1_off1332 v1674 v1676 k1_t96 k1_t98) a + S1x16.size a ≤ S72x256.size a) ∧
  (∀ (k1_t96 : Fin (k1_t96_loop v1674 v1676).trips) (k1_t98 : Fin (k1_t98_loop v1674 v1676 k1_t96).trips), ∀ a, (k1_off1333 v1674 v1676 k1_t96 k1_t98) a + S1x16.size a ≤ S72x256.size a) ∧
  (∀ (k1_t96 : Fin (k1_t96_loop v1674 v1676).trips) (k1_t98 : Fin (k1_t98_loop v1674 v1676 k1_t96).trips), ∀ a, (k1_off1334 v1674 v1676 k1_t96 k1_t98) a + S1x16.size a ≤ S72x256.size a) ∧
  (∀ (k1_t96 : Fin (k1_t96_loop v1674 v1676).trips) (k1_t98 : Fin (k1_t98_loop v1674 v1676 k1_t96).trips), ∀ a, (k1_off1335 v1674 v1676 k1_t96 k1_t98) a + S1x16.size a ≤ S72x256.size a) ∧
  (∀ (k1_t96 : Fin (k1_t96_loop v1674 v1676).trips) (k1_t98 : Fin (k1_t98_loop v1674 v1676 k1_t96).trips), ∀ a, (k1_off1336 v1674 v1676 k1_t96 k1_t98) a + S1x16.size a ≤ S72x256.size a) ∧
  (∀ (k1_t96 : Fin (k1_t96_loop v1674 v1676).trips) (k1_t98 : Fin (k1_t98_loop v1674 v1676 k1_t96).trips), ∀ a, (k1_off1337 v1674 v1676 k1_t96 k1_t98) a + S1x16.size a ≤ S72x256.size a) ∧
  (∀ k1_t96 : Fin (k1_t96_loop v1674 v1676).trips, ∀ (k1_h89 : k1_cond89 v1674 v1676 k1_t96 = 1#1), ∀ a, (k1_off1338 i v1674 v1676 k1_t96) a + S72x256.size a ≤ S100000x512.size a) ∧
  (∀ k1_t96 : Fin (k1_t96_loop v1674 v1676).trips, ∀ (k1_h89 : k1_cond89 v1674 v1676 k1_t96 = 1#1), ∀ (k1_h90 : k1_cond90 v1674 v1676 k1_t96 = 1#1), ∀ a, (k1_off1339 i v1674 v1676 k1_t96) a + S72x256.size a ≤ S100000x512.size a) ∧
  (∀ k1_t96 : Fin (k1_t96_loop v1674 v1676).trips, (k1_t99_loop v1674 v1676 k1_t96).OK) ∧
  (∀ (k1_t96 : Fin (k1_t96_loop v1674 v1676).trips) (k1_t99 : Fin (k1_t99_loop v1674 v1676 k1_t96).trips), ∀ a, (k1_off1340 v1674 v1676 k1_t96 k1_t99) a + S1x16.size a ≤ S72x256.size a) ∧
  (∀ (k1_t96 : Fin (k1_t96_loop v1674 v1676).trips) (k1_t99 : Fin (k1_t99_loop v1674 v1676 k1_t96).trips), ∀ a, (k1_off1341 v1674 v1676 k1_t96 k1_t99) a + S1x16.size a ≤ S72x256.size a) ∧
  (∀ (k1_t96 : Fin (k1_t96_loop v1674 v1676).trips) (k1_t99 : Fin (k1_t99_loop v1674 v1676 k1_t96).trips), ∀ a, (k1_off1342 v1674 v1676 k1_t96 k1_t99) a + S1x16.size a ≤ S72x256.size a) ∧
  (∀ (k1_t96 : Fin (k1_t96_loop v1674 v1676).trips) (k1_t99 : Fin (k1_t99_loop v1674 v1676 k1_t96).trips), ∀ a, (k1_off1343 v1674 v1676 k1_t96 k1_t99) a + S1x16.size a ≤ S72x256.size a) ∧
  (∀ (k1_t96 : Fin (k1_t96_loop v1674 v1676).trips) (k1_t99 : Fin (k1_t99_loop v1674 v1676 k1_t96).trips), ∀ a, (k1_off1344 v1674 v1676 k1_t96 k1_t99) a + S1x16.size a ≤ S72x256.size a) ∧
  (∀ (k1_t96 : Fin (k1_t96_loop v1674 v1676).trips) (k1_t99 : Fin (k1_t99_loop v1674 v1676 k1_t96).trips), ∀ a, (k1_off1345 v1674 v1676 k1_t96 k1_t99) a + S1x16.size a ≤ S72x256.size a) ∧
  (∀ (k1_t96 : Fin (k1_t96_loop v1674 v1676).trips) (k1_t99 : Fin (k1_t99_loop v1674 v1676 k1_t96).trips), ∀ a, (k1_off1346 v1674 v1676 k1_t96 k1_t99) a + S1x16.size a ≤ S72x256.size a) ∧
  (∀ (k1_t96 : Fin (k1_t96_loop v1674 v1676).trips) (k1_t99 : Fin (k1_t99_loop v1674 v1676 k1_t96).trips), ∀ a, (k1_off1347 v1674 v1676 k1_t96 k1_t99) a + S1x16.size a ≤ S72x256.size a) ∧
  (∀ (k1_t96 : Fin (k1_t96_loop v1674 v1676).trips) (k1_t99 : Fin (k1_t99_loop v1674 v1676 k1_t96).trips), ∀ a, (k1_off1348 v1674 v1676 k1_t96 k1_t99) a + S1x16.size a ≤ S72x256.size a) ∧
  (∀ (k1_t96 : Fin (k1_t96_loop v1674 v1676).trips) (k1_t99 : Fin (k1_t99_loop v1674 v1676 k1_t96).trips), ∀ a, (k1_off1349 v1674 v1676 k1_t96 k1_t99) a + S1x16.size a ≤ S72x256.size a) ∧
  (∀ (k1_t96 : Fin (k1_t96_loop v1674 v1676).trips) (k1_t99 : Fin (k1_t99_loop v1674 v1676 k1_t96).trips), ∀ a, (k1_off1350 v1674 v1676 k1_t96 k1_t99) a + S1x16.size a ≤ S72x256.size a) ∧
  (∀ (k1_t96 : Fin (k1_t96_loop v1674 v1676).trips) (k1_t99 : Fin (k1_t99_loop v1674 v1676 k1_t96).trips), ∀ a, (k1_off1351 v1674 v1676 k1_t96 k1_t99) a + S1x16.size a ≤ S72x256.size a) ∧
  (∀ (k1_t96 : Fin (k1_t96_loop v1674 v1676).trips) (k1_t99 : Fin (k1_t99_loop v1674 v1676 k1_t96).trips), ∀ a, (k1_off1352 v1674 v1676 k1_t96 k1_t99) a + S1x16.size a ≤ S72x256.size a) ∧
  (∀ (k1_t96 : Fin (k1_t96_loop v1674 v1676).trips) (k1_t99 : Fin (k1_t99_loop v1674 v1676 k1_t96).trips), ∀ a, (k1_off1353 v1674 v1676 k1_t96 k1_t99) a + S1x16.size a ≤ S72x256.size a)
def k1_chk10_4 (i : grid1.Coords) (v1674 : BitVec 32) (v1676 : BitVec 32) : Prop :=
  (∀ (k1_t96 : Fin (k1_t96_loop v1674 v1676).trips) (k1_t99 : Fin (k1_t99_loop v1674 v1676 k1_t96).trips), ∀ a, (k1_off1354 v1674 v1676 k1_t96 k1_t99) a + S1x16.size a ≤ S72x256.size a) ∧
  (∀ (k1_t96 : Fin (k1_t96_loop v1674 v1676).trips) (k1_t99 : Fin (k1_t99_loop v1674 v1676 k1_t96).trips), ∀ a, (k1_off1355 v1674 v1676 k1_t96 k1_t99) a + S1x16.size a ≤ S72x256.size a) ∧
  (∀ k1_t96 : Fin (k1_t96_loop v1674 v1676).trips, (k1_t100_loop v1674 v1676 k1_t96).OK) ∧
  (∀ (k1_t96 : Fin (k1_t96_loop v1674 v1676).trips) (k1_t100 : Fin (k1_t100_loop v1674 v1676 k1_t96).trips), ∀ a, (k1_off1356 v1674 v1676 k1_t96 k1_t100) a + S1x16.size a ≤ S72x256.size a) ∧
  (∀ (k1_t96 : Fin (k1_t96_loop v1674 v1676).trips) (k1_t100 : Fin (k1_t100_loop v1674 v1676 k1_t96).trips), ∀ a, (k1_off1357 v1674 v1676 k1_t96 k1_t100) a + S1x16.size a ≤ S72x256.size a) ∧
  (∀ (k1_t96 : Fin (k1_t96_loop v1674 v1676).trips) (k1_t100 : Fin (k1_t100_loop v1674 v1676 k1_t96).trips), ∀ a, (k1_off1358 v1674 v1676 k1_t96 k1_t100) a + S1x16.size a ≤ S72x256.size a) ∧
  (∀ (k1_t96 : Fin (k1_t96_loop v1674 v1676).trips) (k1_t100 : Fin (k1_t100_loop v1674 v1676 k1_t96).trips), ∀ a, (k1_off1359 v1674 v1676 k1_t96 k1_t100) a + S1x16.size a ≤ S72x256.size a) ∧
  (∀ (k1_t96 : Fin (k1_t96_loop v1674 v1676).trips) (k1_t100 : Fin (k1_t100_loop v1674 v1676 k1_t96).trips), ∀ a, (k1_off1360 v1674 v1676 k1_t96 k1_t100) a + S1x16.size a ≤ S72x256.size a) ∧
  (∀ (k1_t96 : Fin (k1_t96_loop v1674 v1676).trips) (k1_t100 : Fin (k1_t100_loop v1674 v1676 k1_t96).trips), ∀ a, (k1_off1361 v1674 v1676 k1_t96 k1_t100) a + S1x16.size a ≤ S72x256.size a) ∧
  (∀ (k1_t96 : Fin (k1_t96_loop v1674 v1676).trips) (k1_t100 : Fin (k1_t100_loop v1674 v1676 k1_t96).trips), ∀ a, (k1_off1362 v1674 v1676 k1_t96 k1_t100) a + S1x16.size a ≤ S72x256.size a) ∧
  (∀ (k1_t96 : Fin (k1_t96_loop v1674 v1676).trips) (k1_t100 : Fin (k1_t100_loop v1674 v1676 k1_t96).trips), ∀ a, (k1_off1363 v1674 v1676 k1_t96 k1_t100) a + S1x16.size a ≤ S72x256.size a) ∧
  (∀ (k1_t96 : Fin (k1_t96_loop v1674 v1676).trips) (k1_t100 : Fin (k1_t100_loop v1674 v1676 k1_t96).trips), ∀ a, (k1_off1364 v1674 v1676 k1_t96 k1_t100) a + S1x16.size a ≤ S72x256.size a) ∧
  (∀ (k1_t96 : Fin (k1_t96_loop v1674 v1676).trips) (k1_t100 : Fin (k1_t100_loop v1674 v1676 k1_t96).trips), ∀ a, (k1_off1365 v1674 v1676 k1_t96 k1_t100) a + S1x16.size a ≤ S72x256.size a) ∧
  (∀ (k1_t96 : Fin (k1_t96_loop v1674 v1676).trips) (k1_t100 : Fin (k1_t100_loop v1674 v1676 k1_t96).trips), ∀ a, (k1_off1366 v1674 v1676 k1_t96 k1_t100) a + S1x16.size a ≤ S72x256.size a) ∧
  (∀ (k1_t96 : Fin (k1_t96_loop v1674 v1676).trips) (k1_t100 : Fin (k1_t100_loop v1674 v1676 k1_t96).trips), ∀ a, (k1_off1367 v1674 v1676 k1_t96 k1_t100) a + S1x16.size a ≤ S72x256.size a) ∧
  (∀ (k1_t96 : Fin (k1_t96_loop v1674 v1676).trips) (k1_t100 : Fin (k1_t100_loop v1674 v1676 k1_t96).trips), ∀ a, (k1_off1368 v1674 v1676 k1_t96 k1_t100) a + S1x16.size a ≤ S72x256.size a) ∧
  (∀ (k1_t96 : Fin (k1_t96_loop v1674 v1676).trips) (k1_t100 : Fin (k1_t100_loop v1674 v1676 k1_t96).trips), ∀ a, (k1_off1369 v1674 v1676 k1_t96 k1_t100) a + S1x16.size a ≤ S72x256.size a) ∧
  (∀ (k1_t96 : Fin (k1_t96_loop v1674 v1676).trips) (k1_t100 : Fin (k1_t100_loop v1674 v1676 k1_t96).trips), ∀ a, (k1_off1370 v1674 v1676 k1_t96 k1_t100) a + S1x16.size a ≤ S72x256.size a) ∧
  (∀ (k1_t96 : Fin (k1_t96_loop v1674 v1676).trips) (k1_t100 : Fin (k1_t100_loop v1674 v1676 k1_t96).trips), ∀ a, (k1_off1371 v1674 v1676 k1_t96 k1_t100) a + S1x16.size a ≤ S72x256.size a)
def k1_chk10 (i : grid1.Coords) (v1674 : BitVec 32) (v1676 : BitVec 32) : Prop :=
  k1_chk10_0 i v1674 v1676 ∧
  k1_chk10_1 i v1674 v1676 ∧
  k1_chk10_2 i v1674 v1676 ∧
  k1_chk10_3 i v1674 v1676 ∧
  k1_chk10_4 i v1674 v1676
theorem k1_off1235_inb : ∀ (i : grid1.Coords) (v1674 : BitVec 32) (v1676 : BitVec 32) (k1_hw10 : k1_chk10 i v1674 v1676), ∀ (k1_h82 : k1_cond82 v1674 v1676 = 1#1), ∀ a, (k1_off1235 i v1674) a + S72x256.size a ≤ S100000x512.size a := fun i v1674 v1676 k1_hw10 k1_h82 => k1_hw10.1.1 k1_h82
theorem k1_t91_ok : ∀ (i : grid1.Coords) (v1674 : BitVec 32) (v1676 : BitVec 32) (k1_hw10 : k1_chk10 i v1674 v1676), (k1_t91_loop v1674 v1676).OK := fun i v1674 v1676 k1_hw10 => k1_hw10.1.2.1
theorem k1_off1236_inb : ∀ (i : grid1.Coords) (v1674 : BitVec 32) (v1676 : BitVec 32) (k1_hw10 : k1_chk10 i v1674 v1676) (k1_t91 : Fin (k1_t91_loop v1674 v1676).trips), ∀ (k1_h83 : k1_cond83 v1674 v1676 k1_t91 = 1#1), ∀ a, (k1_off1236 i v1674 v1676 k1_t91) a + S72x256.size a ≤ S100000x512.size a := fun i v1674 v1676 k1_hw10 k1_t91 k1_h83 => k1_hw10.1.2.2.1 k1_t91 k1_h83
theorem k1_off1237_inb : ∀ (i : grid1.Coords) (v1674 : BitVec 32) (v1676 : BitVec 32) (k1_hw10 : k1_chk10 i v1674 v1676) (k1_t91 : Fin (k1_t91_loop v1674 v1676).trips), ∀ (k1_h83 : k1_cond83 v1674 v1676 k1_t91 = 1#1), ∀ (k1_h84 : k1_cond84 v1674 v1676 k1_t91 = 1#1), ∀ a, (k1_off1237 i v1674 v1676 k1_t91) a + S72x256.size a ≤ S100000x512.size a := fun i v1674 v1676 k1_hw10 k1_t91 k1_h83 k1_h84 => k1_hw10.1.2.2.2.1 k1_t91 k1_h83 k1_h84
theorem k1_t92_ok : ∀ (i : grid1.Coords) (v1674 : BitVec 32) (v1676 : BitVec 32) (k1_hw10 : k1_chk10 i v1674 v1676) (k1_t91 : Fin (k1_t91_loop v1674 v1676).trips), (k1_t92_loop v1674 v1676 k1_t91).OK := fun i v1674 v1676 k1_hw10 k1_t91 => k1_hw10.1.2.2.2.2.1 k1_t91
theorem k1_off1238_inb : ∀ (i : grid1.Coords) (v1674 : BitVec 32) (v1676 : BitVec 32) (k1_hw10 : k1_chk10 i v1674 v1676) (k1_t91 : Fin (k1_t91_loop v1674 v1676).trips) (k1_t92 : Fin (k1_t92_loop v1674 v1676 k1_t91).trips), ∀ a, (k1_off1238 v1674 v1676 k1_t91 k1_t92) a + S1x16.size a ≤ S72x256.size a := fun i v1674 v1676 k1_hw10 k1_t91 k1_t92 => k1_hw10.1.2.2.2.2.2.1 k1_t91 k1_t92
theorem k1_off1239_inb : ∀ (i : grid1.Coords) (v1674 : BitVec 32) (v1676 : BitVec 32) (k1_hw10 : k1_chk10 i v1674 v1676) (k1_t91 : Fin (k1_t91_loop v1674 v1676).trips) (k1_t92 : Fin (k1_t92_loop v1674 v1676 k1_t91).trips), ∀ a, (k1_off1239 v1674 v1676 k1_t91 k1_t92) a + S1x16.size a ≤ S72x256.size a := fun i v1674 v1676 k1_hw10 k1_t91 k1_t92 => k1_hw10.1.2.2.2.2.2.2.1 k1_t91 k1_t92
theorem k1_off1240_inb : ∀ (i : grid1.Coords) (v1674 : BitVec 32) (v1676 : BitVec 32) (k1_hw10 : k1_chk10 i v1674 v1676) (k1_t91 : Fin (k1_t91_loop v1674 v1676).trips) (k1_t92 : Fin (k1_t92_loop v1674 v1676 k1_t91).trips), ∀ a, (k1_off1240 v1674 v1676 k1_t91 k1_t92) a + S1x16.size a ≤ S72x256.size a := fun i v1674 v1676 k1_hw10 k1_t91 k1_t92 => k1_hw10.1.2.2.2.2.2.2.2.1 k1_t91 k1_t92
theorem k1_off1241_inb : ∀ (i : grid1.Coords) (v1674 : BitVec 32) (v1676 : BitVec 32) (k1_hw10 : k1_chk10 i v1674 v1676) (k1_t91 : Fin (k1_t91_loop v1674 v1676).trips) (k1_t92 : Fin (k1_t92_loop v1674 v1676 k1_t91).trips), ∀ a, (k1_off1241 v1674 v1676 k1_t91 k1_t92) a + S1x16.size a ≤ S72x256.size a := fun i v1674 v1676 k1_hw10 k1_t91 k1_t92 => k1_hw10.1.2.2.2.2.2.2.2.2.1 k1_t91 k1_t92
theorem k1_off1242_inb : ∀ (i : grid1.Coords) (v1674 : BitVec 32) (v1676 : BitVec 32) (k1_hw10 : k1_chk10 i v1674 v1676) (k1_t91 : Fin (k1_t91_loop v1674 v1676).trips) (k1_t92 : Fin (k1_t92_loop v1674 v1676 k1_t91).trips), ∀ a, (k1_off1242 v1674 v1676 k1_t91 k1_t92) a + S1x16.size a ≤ S72x256.size a := fun i v1674 v1676 k1_hw10 k1_t91 k1_t92 => k1_hw10.1.2.2.2.2.2.2.2.2.2.1 k1_t91 k1_t92
theorem k1_off1243_inb : ∀ (i : grid1.Coords) (v1674 : BitVec 32) (v1676 : BitVec 32) (k1_hw10 : k1_chk10 i v1674 v1676) (k1_t91 : Fin (k1_t91_loop v1674 v1676).trips) (k1_t92 : Fin (k1_t92_loop v1674 v1676 k1_t91).trips), ∀ a, (k1_off1243 v1674 v1676 k1_t91 k1_t92) a + S1x16.size a ≤ S72x256.size a := fun i v1674 v1676 k1_hw10 k1_t91 k1_t92 => k1_hw10.1.2.2.2.2.2.2.2.2.2.2.1 k1_t91 k1_t92
theorem k1_off1244_inb : ∀ (i : grid1.Coords) (v1674 : BitVec 32) (v1676 : BitVec 32) (k1_hw10 : k1_chk10 i v1674 v1676) (k1_t91 : Fin (k1_t91_loop v1674 v1676).trips) (k1_t92 : Fin (k1_t92_loop v1674 v1676 k1_t91).trips), ∀ a, (k1_off1244 v1674 v1676 k1_t91 k1_t92) a + S1x16.size a ≤ S72x256.size a := fun i v1674 v1676 k1_hw10 k1_t91 k1_t92 => k1_hw10.1.2.2.2.2.2.2.2.2.2.2.2.1 k1_t91 k1_t92
theorem k1_off1245_inb : ∀ (i : grid1.Coords) (v1674 : BitVec 32) (v1676 : BitVec 32) (k1_hw10 : k1_chk10 i v1674 v1676) (k1_t91 : Fin (k1_t91_loop v1674 v1676).trips) (k1_t92 : Fin (k1_t92_loop v1674 v1676 k1_t91).trips), ∀ a, (k1_off1245 v1674 v1676 k1_t91 k1_t92) a + S1x16.size a ≤ S72x256.size a := fun i v1674 v1676 k1_hw10 k1_t91 k1_t92 => k1_hw10.1.2.2.2.2.2.2.2.2.2.2.2.2.1 k1_t91 k1_t92
theorem k1_off1246_inb : ∀ (i : grid1.Coords) (v1674 : BitVec 32) (v1676 : BitVec 32) (k1_hw10 : k1_chk10 i v1674 v1676) (k1_t91 : Fin (k1_t91_loop v1674 v1676).trips) (k1_t92 : Fin (k1_t92_loop v1674 v1676 k1_t91).trips), ∀ a, (k1_off1246 v1674 v1676 k1_t91 k1_t92) a + S1x16.size a ≤ S72x256.size a := fun i v1674 v1676 k1_hw10 k1_t91 k1_t92 => k1_hw10.1.2.2.2.2.2.2.2.2.2.2.2.2.2.1 k1_t91 k1_t92
theorem k1_off1247_inb : ∀ (i : grid1.Coords) (v1674 : BitVec 32) (v1676 : BitVec 32) (k1_hw10 : k1_chk10 i v1674 v1676) (k1_t91 : Fin (k1_t91_loop v1674 v1676).trips) (k1_t92 : Fin (k1_t92_loop v1674 v1676 k1_t91).trips), ∀ a, (k1_off1247 v1674 v1676 k1_t91 k1_t92) a + S1x16.size a ≤ S72x256.size a := fun i v1674 v1676 k1_hw10 k1_t91 k1_t92 => k1_hw10.1.2.2.2.2.2.2.2.2.2.2.2.2.2.2.1 k1_t91 k1_t92
theorem k1_off1248_inb : ∀ (i : grid1.Coords) (v1674 : BitVec 32) (v1676 : BitVec 32) (k1_hw10 : k1_chk10 i v1674 v1676) (k1_t91 : Fin (k1_t91_loop v1674 v1676).trips) (k1_t92 : Fin (k1_t92_loop v1674 v1676 k1_t91).trips), ∀ a, (k1_off1248 v1674 v1676 k1_t91 k1_t92) a + S1x16.size a ≤ S72x256.size a := fun i v1674 v1676 k1_hw10 k1_t91 k1_t92 => k1_hw10.1.2.2.2.2.2.2.2.2.2.2.2.2.2.2.2.1 k1_t91 k1_t92
theorem k1_off1249_inb : ∀ (i : grid1.Coords) (v1674 : BitVec 32) (v1676 : BitVec 32) (k1_hw10 : k1_chk10 i v1674 v1676) (k1_t91 : Fin (k1_t91_loop v1674 v1676).trips) (k1_t92 : Fin (k1_t92_loop v1674 v1676 k1_t91).trips), ∀ a, (k1_off1249 v1674 v1676 k1_t91 k1_t92) a + S1x16.size a ≤ S72x256.size a := fun i v1674 v1676 k1_hw10 k1_t91 k1_t92 => k1_hw10.1.2.2.2.2.2.2.2.2.2.2.2.2.2.2.2.2.1 k1_t91 k1_t92
theorem k1_off1250_inb : ∀ (i : grid1.Coords) (v1674 : BitVec 32) (v1676 : BitVec 32) (k1_hw10 : k1_chk10 i v1674 v1676) (k1_t91 : Fin (k1_t91_loop v1674 v1676).trips) (k1_t92 : Fin (k1_t92_loop v1674 v1676 k1_t91).trips), ∀ a, (k1_off1250 v1674 v1676 k1_t91 k1_t92) a + S1x16.size a ≤ S72x256.size a := fun i v1674 v1676 k1_hw10 k1_t91 k1_t92 => k1_hw10.1.2.2.2.2.2.2.2.2.2.2.2.2.2.2.2.2.2.1 k1_t91 k1_t92
theorem k1_off1251_inb : ∀ (i : grid1.Coords) (v1674 : BitVec 32) (v1676 : BitVec 32) (k1_hw10 : k1_chk10 i v1674 v1676) (k1_t91 : Fin (k1_t91_loop v1674 v1676).trips) (k1_t92 : Fin (k1_t92_loop v1674 v1676 k1_t91).trips), ∀ a, (k1_off1251 v1674 v1676 k1_t91 k1_t92) a + S1x16.size a ≤ S72x256.size a := fun i v1674 v1676 k1_hw10 k1_t91 k1_t92 => k1_hw10.1.2.2.2.2.2.2.2.2.2.2.2.2.2.2.2.2.2.2.1 k1_t91 k1_t92
theorem k1_off1252_inb : ∀ (i : grid1.Coords) (v1674 : BitVec 32) (v1676 : BitVec 32) (k1_hw10 : k1_chk10 i v1674 v1676) (k1_t91 : Fin (k1_t91_loop v1674 v1676).trips) (k1_t92 : Fin (k1_t92_loop v1674 v1676 k1_t91).trips), ∀ a, (k1_off1252 v1674 v1676 k1_t91 k1_t92) a + S1x16.size a ≤ S72x256.size a := fun i v1674 v1676 k1_hw10 k1_t91 k1_t92 => k1_hw10.1.2.2.2.2.2.2.2.2.2.2.2.2.2.2.2.2.2.2.2.1 k1_t91 k1_t92
theorem k1_off1253_inb : ∀ (i : grid1.Coords) (v1674 : BitVec 32) (v1676 : BitVec 32) (k1_hw10 : k1_chk10 i v1674 v1676) (k1_t91 : Fin (k1_t91_loop v1674 v1676).trips) (k1_t92 : Fin (k1_t92_loop v1674 v1676 k1_t91).trips), ∀ a, (k1_off1253 v1674 v1676 k1_t91 k1_t92) a + S1x16.size a ≤ S72x256.size a := fun i v1674 v1676 k1_hw10 k1_t91 k1_t92 => k1_hw10.1.2.2.2.2.2.2.2.2.2.2.2.2.2.2.2.2.2.2.2.2.1 k1_t91 k1_t92
theorem k1_t93_ok : ∀ (i : grid1.Coords) (v1674 : BitVec 32) (v1676 : BitVec 32) (k1_hw10 : k1_chk10 i v1674 v1676) (k1_t91 : Fin (k1_t91_loop v1674 v1676).trips), (k1_t93_loop v1674 v1676 k1_t91).OK := fun i v1674 v1676 k1_hw10 k1_t91 => k1_hw10.1.2.2.2.2.2.2.2.2.2.2.2.2.2.2.2.2.2.2.2.2.2.1 k1_t91
theorem k1_off1254_inb : ∀ (i : grid1.Coords) (v1674 : BitVec 32) (v1676 : BitVec 32) (k1_hw10 : k1_chk10 i v1674 v1676) (k1_t91 : Fin (k1_t91_loop v1674 v1676).trips) (k1_t93 : Fin (k1_t93_loop v1674 v1676 k1_t91).trips), ∀ a, (k1_off1254 v1674 v1676 k1_t91 k1_t93) a + S1x16.size a ≤ S72x256.size a := fun i v1674 v1676 k1_hw10 k1_t91 k1_t93 => k1_hw10.1.2.2.2.2.2.2.2.2.2.2.2.2.2.2.2.2.2.2.2.2.2.2.1 k1_t91 k1_t93
theorem k1_off1255_inb : ∀ (i : grid1.Coords) (v1674 : BitVec 32) (v1676 : BitVec 32) (k1_hw10 : k1_chk10 i v1674 v1676) (k1_t91 : Fin (k1_t91_loop v1674 v1676).trips) (k1_t93 : Fin (k1_t93_loop v1674 v1676 k1_t91).trips), ∀ a, (k1_off1255 v1674 v1676 k1_t91 k1_t93) a + S1x16.size a ≤ S72x256.size a := fun i v1674 v1676 k1_hw10 k1_t91 k1_t93 => k1_hw10.1.2.2.2.2.2.2.2.2.2.2.2.2.2.2.2.2.2.2.2.2.2.2.2.1 k1_t91 k1_t93
theorem k1_off1256_inb : ∀ (i : grid1.Coords) (v1674 : BitVec 32) (v1676 : BitVec 32) (k1_hw10 : k1_chk10 i v1674 v1676) (k1_t91 : Fin (k1_t91_loop v1674 v1676).trips) (k1_t93 : Fin (k1_t93_loop v1674 v1676 k1_t91).trips), ∀ a, (k1_off1256 v1674 v1676 k1_t91 k1_t93) a + S1x16.size a ≤ S72x256.size a := fun i v1674 v1676 k1_hw10 k1_t91 k1_t93 => k1_hw10.1.2.2.2.2.2.2.2.2.2.2.2.2.2.2.2.2.2.2.2.2.2.2.2.2.1 k1_t91 k1_t93
theorem k1_off1257_inb : ∀ (i : grid1.Coords) (v1674 : BitVec 32) (v1676 : BitVec 32) (k1_hw10 : k1_chk10 i v1674 v1676) (k1_t91 : Fin (k1_t91_loop v1674 v1676).trips) (k1_t93 : Fin (k1_t93_loop v1674 v1676 k1_t91).trips), ∀ a, (k1_off1257 v1674 v1676 k1_t91 k1_t93) a + S1x16.size a ≤ S72x256.size a := fun i v1674 v1676 k1_hw10 k1_t91 k1_t93 => k1_hw10.1.2.2.2.2.2.2.2.2.2.2.2.2.2.2.2.2.2.2.2.2.2.2.2.2.2.1 k1_t91 k1_t93
theorem k1_off1258_inb : ∀ (i : grid1.Coords) (v1674 : BitVec 32) (v1676 : BitVec 32) (k1_hw10 : k1_chk10 i v1674 v1676) (k1_t91 : Fin (k1_t91_loop v1674 v1676).trips) (k1_t93 : Fin (k1_t93_loop v1674 v1676 k1_t91).trips), ∀ a, (k1_off1258 v1674 v1676 k1_t91 k1_t93) a + S1x16.size a ≤ S72x256.size a := fun i v1674 v1676 k1_hw10 k1_t91 k1_t93 => k1_hw10.1.2.2.2.2.2.2.2.2.2.2.2.2.2.2.2.2.2.2.2.2.2.2.2.2.2.2.1 k1_t91 k1_t93
theorem k1_off1259_inb : ∀ (i : grid1.Coords) (v1674 : BitVec 32) (v1676 : BitVec 32) (k1_hw10 : k1_chk10 i v1674 v1676) (k1_t91 : Fin (k1_t91_loop v1674 v1676).trips) (k1_t93 : Fin (k1_t93_loop v1674 v1676 k1_t91).trips), ∀ a, (k1_off1259 v1674 v1676 k1_t91 k1_t93) a + S1x16.size a ≤ S72x256.size a := fun i v1674 v1676 k1_hw10 k1_t91 k1_t93 => k1_hw10.1.2.2.2.2.2.2.2.2.2.2.2.2.2.2.2.2.2.2.2.2.2.2.2.2.2.2.2.1 k1_t91 k1_t93
theorem k1_off1260_inb : ∀ (i : grid1.Coords) (v1674 : BitVec 32) (v1676 : BitVec 32) (k1_hw10 : k1_chk10 i v1674 v1676) (k1_t91 : Fin (k1_t91_loop v1674 v1676).trips) (k1_t93 : Fin (k1_t93_loop v1674 v1676 k1_t91).trips), ∀ a, (k1_off1260 v1674 v1676 k1_t91 k1_t93) a + S1x16.size a ≤ S72x256.size a := fun i v1674 v1676 k1_hw10 k1_t91 k1_t93 => k1_hw10.1.2.2.2.2.2.2.2.2.2.2.2.2.2.2.2.2.2.2.2.2.2.2.2.2.2.2.2.2.1 k1_t91 k1_t93
theorem k1_off1261_inb : ∀ (i : grid1.Coords) (v1674 : BitVec 32) (v1676 : BitVec 32) (k1_hw10 : k1_chk10 i v1674 v1676) (k1_t91 : Fin (k1_t91_loop v1674 v1676).trips) (k1_t93 : Fin (k1_t93_loop v1674 v1676 k1_t91).trips), ∀ a, (k1_off1261 v1674 v1676 k1_t91 k1_t93) a + S1x16.size a ≤ S72x256.size a := fun i v1674 v1676 k1_hw10 k1_t91 k1_t93 => k1_hw10.1.2.2.2.2.2.2.2.2.2.2.2.2.2.2.2.2.2.2.2.2.2.2.2.2.2.2.2.2.2.1 k1_t91 k1_t93
theorem k1_off1262_inb : ∀ (i : grid1.Coords) (v1674 : BitVec 32) (v1676 : BitVec 32) (k1_hw10 : k1_chk10 i v1674 v1676) (k1_t91 : Fin (k1_t91_loop v1674 v1676).trips) (k1_t93 : Fin (k1_t93_loop v1674 v1676 k1_t91).trips), ∀ a, (k1_off1262 v1674 v1676 k1_t91 k1_t93) a + S1x16.size a ≤ S72x256.size a := fun i v1674 v1676 k1_hw10 k1_t91 k1_t93 => k1_hw10.1.2.2.2.2.2.2.2.2.2.2.2.2.2.2.2.2.2.2.2.2.2.2.2.2.2.2.2.2.2.2.1 k1_t91 k1_t93
theorem k1_off1263_inb : ∀ (i : grid1.Coords) (v1674 : BitVec 32) (v1676 : BitVec 32) (k1_hw10 : k1_chk10 i v1674 v1676) (k1_t91 : Fin (k1_t91_loop v1674 v1676).trips) (k1_t93 : Fin (k1_t93_loop v1674 v1676 k1_t91).trips), ∀ a, (k1_off1263 v1674 v1676 k1_t91 k1_t93) a + S1x16.size a ≤ S72x256.size a := fun i v1674 v1676 k1_hw10 k1_t91 k1_t93 => k1_hw10.1.2.2.2.2.2.2.2.2.2.2.2.2.2.2.2.2.2.2.2.2.2.2.2.2.2.2.2.2.2.2.2 k1_t91 k1_t93
theorem k1_off1264_inb : ∀ (i : grid1.Coords) (v1674 : BitVec 32) (v1676 : BitVec 32) (k1_hw10 : k1_chk10 i v1674 v1676) (k1_t91 : Fin (k1_t91_loop v1674 v1676).trips) (k1_t93 : Fin (k1_t93_loop v1674 v1676 k1_t91).trips), ∀ a, (k1_off1264 v1674 v1676 k1_t91 k1_t93) a + S1x16.size a ≤ S72x256.size a := fun i v1674 v1676 k1_hw10 k1_t91 k1_t93 => k1_hw10.2.1.1 k1_t91 k1_t93
theorem k1_off1265_inb : ∀ (i : grid1.Coords) (v1674 : BitVec 32) (v1676 : BitVec 32) (k1_hw10 : k1_chk10 i v1674 v1676) (k1_t91 : Fin (k1_t91_loop v1674 v1676).trips) (k1_t93 : Fin (k1_t93_loop v1674 v1676 k1_t91).trips), ∀ a, (k1_off1265 v1674 v1676 k1_t91 k1_t93) a + S1x16.size a ≤ S72x256.size a := fun i v1674 v1676 k1_hw10 k1_t91 k1_t93 => k1_hw10.2.1.2.1 k1_t91 k1_t93
theorem k1_off1266_inb : ∀ (i : grid1.Coords) (v1674 : BitVec 32) (v1676 : BitVec 32) (k1_hw10 : k1_chk10 i v1674 v1676) (k1_t91 : Fin (k1_t91_loop v1674 v1676).trips) (k1_t93 : Fin (k1_t93_loop v1674 v1676 k1_t91).trips), ∀ a, (k1_off1266 v1674 v1676 k1_t91 k1_t93) a + S1x16.size a ≤ S72x256.size a := fun i v1674 v1676 k1_hw10 k1_t91 k1_t93 => k1_hw10.2.1.2.2.1 k1_t91 k1_t93
theorem k1_off1267_inb : ∀ (i : grid1.Coords) (v1674 : BitVec 32) (v1676 : BitVec 32) (k1_hw10 : k1_chk10 i v1674 v1676) (k1_t91 : Fin (k1_t91_loop v1674 v1676).trips) (k1_t93 : Fin (k1_t93_loop v1674 v1676 k1_t91).trips), ∀ a, (k1_off1267 v1674 v1676 k1_t91 k1_t93) a + S1x16.size a ≤ S72x256.size a := fun i v1674 v1676 k1_hw10 k1_t91 k1_t93 => k1_hw10.2.1.2.2.2.1 k1_t91 k1_t93
theorem k1_off1268_inb : ∀ (i : grid1.Coords) (v1674 : BitVec 32) (v1676 : BitVec 32) (k1_hw10 : k1_chk10 i v1674 v1676) (k1_t91 : Fin (k1_t91_loop v1674 v1676).trips) (k1_t93 : Fin (k1_t93_loop v1674 v1676 k1_t91).trips), ∀ a, (k1_off1268 v1674 v1676 k1_t91 k1_t93) a + S1x16.size a ≤ S72x256.size a := fun i v1674 v1676 k1_hw10 k1_t91 k1_t93 => k1_hw10.2.1.2.2.2.2.1 k1_t91 k1_t93
theorem k1_off1269_inb : ∀ (i : grid1.Coords) (v1674 : BitVec 32) (v1676 : BitVec 32) (k1_hw10 : k1_chk10 i v1674 v1676) (k1_t91 : Fin (k1_t91_loop v1674 v1676).trips) (k1_t93 : Fin (k1_t93_loop v1674 v1676 k1_t91).trips), ∀ a, (k1_off1269 v1674 v1676 k1_t91 k1_t93) a + S1x16.size a ≤ S72x256.size a := fun i v1674 v1676 k1_hw10 k1_t91 k1_t93 => k1_hw10.2.1.2.2.2.2.2.1 k1_t91 k1_t93
theorem k1_off1270_inb : ∀ (i : grid1.Coords) (v1674 : BitVec 32) (v1676 : BitVec 32) (k1_hw10 : k1_chk10 i v1674 v1676) (k1_t91 : Fin (k1_t91_loop v1674 v1676).trips), ∀ (k1_h85 : k1_cond85 v1674 v1676 k1_t91 = 1#1), ∀ a, (k1_off1270 i v1674 v1676 k1_t91) a + S72x256.size a ≤ S100000x512.size a := fun i v1674 v1676 k1_hw10 k1_t91 k1_h85 => k1_hw10.2.1.2.2.2.2.2.2.1 k1_t91 k1_h85
theorem k1_off1271_inb : ∀ (i : grid1.Coords) (v1674 : BitVec 32) (v1676 : BitVec 32) (k1_hw10 : k1_chk10 i v1674 v1676) (k1_t91 : Fin (k1_t91_loop v1674 v1676).trips), ∀ (k1_h85 : k1_cond85 v1674 v1676 k1_t91 = 1#1), ∀ (k1_h86 : k1_cond86 v1674 v1676 k1_t91 = 1#1), ∀ a, (k1_off1271 i v1674 v1676 k1_t91) a + S72x256.size a ≤ S100000x512.size a := fun i v1674 v1676 k1_hw10 k1_t91 k1_h85 k1_h86 => k1_hw10.2.1.2.2.2.2.2.2.2.1 k1_t91 k1_h85 k1_h86
theorem k1_t94_ok : ∀ (i : grid1.Coords) (v1674 : BitVec 32) (v1676 : BitVec 32) (k1_hw10 : k1_chk10 i v1674 v1676) (k1_t91 : Fin (k1_t91_loop v1674 v1676).trips), (k1_t94_loop v1674 v1676 k1_t91).OK := fun i v1674 v1676 k1_hw10 k1_t91 => k1_hw10.2.1.2.2.2.2.2.2.2.2.1 k1_t91
theorem k1_off1272_inb : ∀ (i : grid1.Coords) (v1674 : BitVec 32) (v1676 : BitVec 32) (k1_hw10 : k1_chk10 i v1674 v1676) (k1_t91 : Fin (k1_t91_loop v1674 v1676).trips) (k1_t94 : Fin (k1_t94_loop v1674 v1676 k1_t91).trips), ∀ a, (k1_off1272 v1674 v1676 k1_t91 k1_t94) a + S1x16.size a ≤ S72x256.size a := fun i v1674 v1676 k1_hw10 k1_t91 k1_t94 => k1_hw10.2.1.2.2.2.2.2.2.2.2.2.1 k1_t91 k1_t94
theorem k1_off1273_inb : ∀ (i : grid1.Coords) (v1674 : BitVec 32) (v1676 : BitVec 32) (k1_hw10 : k1_chk10 i v1674 v1676) (k1_t91 : Fin (k1_t91_loop v1674 v1676).trips) (k1_t94 : Fin (k1_t94_loop v1674 v1676 k1_t91).trips), ∀ a, (k1_off1273 v1674 v1676 k1_t91 k1_t94) a + S1x16.size a ≤ S72x256.size a := fun i v1674 v1676 k1_hw10 k1_t91 k1_t94 => k1_hw10.2.1.2.2.2.2.2.2.2.2.2.2.1 k1_t91 k1_t94
theorem k1_off1274_inb : ∀ (i : grid1.Coords) (v1674 : BitVec 32) (v1676 : BitVec 32) (k1_hw10 : k1_chk10 i v1674 v1676) (k1_t91 : Fin (k1_t91_loop v1674 v1676).trips) (k1_t94 : Fin (k1_t94_loop v1674 v1676 k1_t91).trips), ∀ a, (k1_off1274 v1674 v1676 k1_t91 k1_t94) a + S1x16.size a ≤ S72x256.size a := fun i v1674 v1676 k1_hw10 k1_t91 k1_t94 => k1_hw10.2.1.2.2.2.2.2.2.2.2.2.2.2.1 k1_t91 k1_t94
theorem k1_off1275_inb : ∀ (i : grid1.Coords) (v1674 : BitVec 32) (v1676 : BitVec 32) (k1_hw10 : k1_chk10 i v1674 v1676) (k1_t91 : Fin (k1_t91_loop v1674 v1676).trips) (k1_t94 : Fin (k1_t94_loop v1674 v1676 k1_t91).trips), ∀ a, (k1_off1275 v1674 v1676 k1_t91 k1_t94) a + S1x16.size a ≤ S72x256.size a := fun i v1674 v1676 k1_hw10 k1_t91 k1_t94 => k1_hw10.2.1.2.2.2.2.2.2.2.2.2.2.2.2.1 k1_t91 k1_t94
theorem k1_off1276_inb : ∀ (i : grid1.Coords) (v1674 : BitVec 32) (v1676 : BitVec 32) (k1_hw10 : k1_chk10 i v1674 v1676) (k1_t91 : Fin (k1_t91_loop v1674 v1676).trips) (k1_t94 : Fin (k1_t94_loop v1674 v1676 k1_t91).trips), ∀ a, (k1_off1276 v1674 v1676 k1_t91 k1_t94) a + S1x16.size a ≤ S72x256.size a := fun i v1674 v1676 k1_hw10 k1_t91 k1_t94 => k1_hw10.2.1.2.2.2.2.2.2.2.2.2.2.2.2.2.1 k1_t91 k1_t94
theorem k1_off1277_inb : ∀ (i : grid1.Coords) (v1674 : BitVec 32) (v1676 : BitVec 32) (k1_hw10 : k1_chk10 i v1674 v1676) (k1_t91 : Fin (k1_t91_loop v1674 v1676).trips) (k1_t94 : Fin (k1_t94_loop v1674 v1676 k1_t91).trips), ∀ a, (k1_off1277 v1674 v1676 k1_t91 k1_t94) a + S1x16.size a ≤ S72x256.size a := fun i v1674 v1676 k1_hw10 k1_t91 k1_t94 => k1_hw10.2.1.2.2.2.2.2.2.2.2.2.2.2.2.2.2.1 k1_t91 k1_t94
theorem k1_off1278_inb : ∀ (i : grid1.Coords) (v1674 : BitVec 32) (v1676 : BitVec 32) (k1_hw10 : k1_chk10 i v1674 v1676) (k1_t91 : Fin (k1_t91_loop v1674 v1676).trips) (k1_t94 : Fin (k1_t94_loop v1674 v1676 k1_t91).trips), ∀ a, (k1_off1278 v1674 v1676 k1_t91 k1_t94) a + S1x16.size a ≤ S72x256.size a := fun i v1674 v1676 k1_hw10 k1_t91 k1_t94 => k1_hw10.2.1.2.2.2.2.2.2.2.2.2.2.2.2.2.2.2.1 k1_t91 k1_t94
theorem k1_off1279_inb : ∀ (i : grid1.Coords) (v1674 : BitVec 32) (v1676 : BitVec 32) (k1_hw10 : k1_chk10 i v1674 v1676) (k1_t91 : Fin (k1_t91_loop v1674 v1676).trips) (k1_t94 : Fin (k1_t94_loop v1674 v1676 k1_t91).trips), ∀ a, (k1_off1279 v1674 v1676 k1_t91 k1_t94) a + S1x16.size a ≤ S72x256.size a := fun i v1674 v1676 k1_hw10 k1_t91 k1_t94 => k1_hw10.2.1.2.2.2.2.2.2.2.2.2.2.2.2.2.2.2.2.1 k1_t91 k1_t94
theorem k1_off1280_inb : ∀ (i : grid1.Coords) (v1674 : BitVec 32) (v1676 : BitVec 32) (k1_hw10 : k1_chk10 i v1674 v1676) (k1_t91 : Fin (k1_t91_loop v1674 v1676).trips) (k1_t94 : Fin (k1_t94_loop v1674 v1676 k1_t91).trips), ∀ a, (k1_off1280 v1674 v1676 k1_t91 k1_t94) a + S1x16.size a ≤ S72x256.size a := fun i v1674 v1676 k1_hw10 k1_t91 k1_t94 => k1_hw10.2.1.2.2.2.2.2.2.2.2.2.2.2.2.2.2.2.2.2.1 k1_t91 k1_t94
theorem k1_off1281_inb : ∀ (i : grid1.Coords) (v1674 : BitVec 32) (v1676 : BitVec 32) (k1_hw10 : k1_chk10 i v1674 v1676) (k1_t91 : Fin (k1_t91_loop v1674 v1676).trips) (k1_t94 : Fin (k1_t94_loop v1674 v1676 k1_t91).trips), ∀ a, (k1_off1281 v1674 v1676 k1_t91 k1_t94) a + S1x16.size a ≤ S72x256.size a := fun i v1674 v1676 k1_hw10 k1_t91 k1_t94 => k1_hw10.2.1.2.2.2.2.2.2.2.2.2.2.2.2.2.2.2.2.2.2.1 k1_t91 k1_t94
theorem k1_off1282_inb : ∀ (i : grid1.Coords) (v1674 : BitVec 32) (v1676 : BitVec 32) (k1_hw10 : k1_chk10 i v1674 v1676) (k1_t91 : Fin (k1_t91_loop v1674 v1676).trips) (k1_t94 : Fin (k1_t94_loop v1674 v1676 k1_t91).trips), ∀ a, (k1_off1282 v1674 v1676 k1_t91 k1_t94) a + S1x16.size a ≤ S72x256.size a := fun i v1674 v1676 k1_hw10 k1_t91 k1_t94 => k1_hw10.2.1.2.2.2.2.2.2.2.2.2.2.2.2.2.2.2.2.2.2.2.1 k1_t91 k1_t94
theorem k1_off1283_inb : ∀ (i : grid1.Coords) (v1674 : BitVec 32) (v1676 : BitVec 32) (k1_hw10 : k1_chk10 i v1674 v1676) (k1_t91 : Fin (k1_t91_loop v1674 v1676).trips) (k1_t94 : Fin (k1_t94_loop v1674 v1676 k1_t91).trips), ∀ a, (k1_off1283 v1674 v1676 k1_t91 k1_t94) a + S1x16.size a ≤ S72x256.size a := fun i v1674 v1676 k1_hw10 k1_t91 k1_t94 => k1_hw10.2.1.2.2.2.2.2.2.2.2.2.2.2.2.2.2.2.2.2.2.2.2.1 k1_t91 k1_t94
theorem k1_off1284_inb : ∀ (i : grid1.Coords) (v1674 : BitVec 32) (v1676 : BitVec 32) (k1_hw10 : k1_chk10 i v1674 v1676) (k1_t91 : Fin (k1_t91_loop v1674 v1676).trips) (k1_t94 : Fin (k1_t94_loop v1674 v1676 k1_t91).trips), ∀ a, (k1_off1284 v1674 v1676 k1_t91 k1_t94) a + S1x16.size a ≤ S72x256.size a := fun i v1674 v1676 k1_hw10 k1_t91 k1_t94 => k1_hw10.2.1.2.2.2.2.2.2.2.2.2.2.2.2.2.2.2.2.2.2.2.2.2.1 k1_t91 k1_t94
theorem k1_off1285_inb : ∀ (i : grid1.Coords) (v1674 : BitVec 32) (v1676 : BitVec 32) (k1_hw10 : k1_chk10 i v1674 v1676) (k1_t91 : Fin (k1_t91_loop v1674 v1676).trips) (k1_t94 : Fin (k1_t94_loop v1674 v1676 k1_t91).trips), ∀ a, (k1_off1285 v1674 v1676 k1_t91 k1_t94) a + S1x16.size a ≤ S72x256.size a := fun i v1674 v1676 k1_hw10 k1_t91 k1_t94 => k1_hw10.2.1.2.2.2.2.2.2.2.2.2.2.2.2.2.2.2.2.2.2.2.2.2.2.1 k1_t91 k1_t94
theorem k1_off1286_inb : ∀ (i : grid1.Coords) (v1674 : BitVec 32) (v1676 : BitVec 32) (k1_hw10 : k1_chk10 i v1674 v1676) (k1_t91 : Fin (k1_t91_loop v1674 v1676).trips) (k1_t94 : Fin (k1_t94_loop v1674 v1676 k1_t91).trips), ∀ a, (k1_off1286 v1674 v1676 k1_t91 k1_t94) a + S1x16.size a ≤ S72x256.size a := fun i v1674 v1676 k1_hw10 k1_t91 k1_t94 => k1_hw10.2.1.2.2.2.2.2.2.2.2.2.2.2.2.2.2.2.2.2.2.2.2.2.2.2.1 k1_t91 k1_t94
theorem k1_off1287_inb : ∀ (i : grid1.Coords) (v1674 : BitVec 32) (v1676 : BitVec 32) (k1_hw10 : k1_chk10 i v1674 v1676) (k1_t91 : Fin (k1_t91_loop v1674 v1676).trips) (k1_t94 : Fin (k1_t94_loop v1674 v1676 k1_t91).trips), ∀ a, (k1_off1287 v1674 v1676 k1_t91 k1_t94) a + S1x16.size a ≤ S72x256.size a := fun i v1674 v1676 k1_hw10 k1_t91 k1_t94 => k1_hw10.2.1.2.2.2.2.2.2.2.2.2.2.2.2.2.2.2.2.2.2.2.2.2.2.2.2.1 k1_t91 k1_t94
theorem k1_t95_ok : ∀ (i : grid1.Coords) (v1674 : BitVec 32) (v1676 : BitVec 32) (k1_hw10 : k1_chk10 i v1674 v1676) (k1_t91 : Fin (k1_t91_loop v1674 v1676).trips), (k1_t95_loop v1674 v1676 k1_t91).OK := fun i v1674 v1676 k1_hw10 k1_t91 => k1_hw10.2.1.2.2.2.2.2.2.2.2.2.2.2.2.2.2.2.2.2.2.2.2.2.2.2.2.2.1 k1_t91
theorem k1_off1288_inb : ∀ (i : grid1.Coords) (v1674 : BitVec 32) (v1676 : BitVec 32) (k1_hw10 : k1_chk10 i v1674 v1676) (k1_t91 : Fin (k1_t91_loop v1674 v1676).trips) (k1_t95 : Fin (k1_t95_loop v1674 v1676 k1_t91).trips), ∀ a, (k1_off1288 v1674 v1676 k1_t91 k1_t95) a + S1x16.size a ≤ S72x256.size a := fun i v1674 v1676 k1_hw10 k1_t91 k1_t95 => k1_hw10.2.1.2.2.2.2.2.2.2.2.2.2.2.2.2.2.2.2.2.2.2.2.2.2.2.2.2.2.1 k1_t91 k1_t95
theorem k1_off1289_inb : ∀ (i : grid1.Coords) (v1674 : BitVec 32) (v1676 : BitVec 32) (k1_hw10 : k1_chk10 i v1674 v1676) (k1_t91 : Fin (k1_t91_loop v1674 v1676).trips) (k1_t95 : Fin (k1_t95_loop v1674 v1676 k1_t91).trips), ∀ a, (k1_off1289 v1674 v1676 k1_t91 k1_t95) a + S1x16.size a ≤ S72x256.size a := fun i v1674 v1676 k1_hw10 k1_t91 k1_t95 => k1_hw10.2.1.2.2.2.2.2.2.2.2.2.2.2.2.2.2.2.2.2.2.2.2.2.2.2.2.2.2.2.1 k1_t91 k1_t95
theorem k1_off1290_inb : ∀ (i : grid1.Coords) (v1674 : BitVec 32) (v1676 : BitVec 32) (k1_hw10 : k1_chk10 i v1674 v1676) (k1_t91 : Fin (k1_t91_loop v1674 v1676).trips) (k1_t95 : Fin (k1_t95_loop v1674 v1676 k1_t91).trips), ∀ a, (k1_off1290 v1674 v1676 k1_t91 k1_t95) a + S1x16.size a ≤ S72x256.size a := fun i v1674 v1676 k1_hw10 k1_t91 k1_t95 => k1_hw10.2.1.2.2.2.2.2.2.2.2.2.2.2.2.2.2.2.2.2.2.2.2.2.2.2.2.2.2.2.2.1 k1_t91 k1_t95
theorem k1_off1291_inb : ∀ (i : grid1.Coords) (v1674 : BitVec 32) (v1676 : BitVec 32) (k1_hw10 : k1_chk10 i v1674 v1676) (k1_t91 : Fin (k1_t91_loop v1674 v1676).trips) (k1_t95 : Fin (k1_t95_loop v1674 v1676 k1_t91).trips), ∀ a, (k1_off1291 v1674 v1676 k1_t91 k1_t95) a + S1x16.size a ≤ S72x256.size a := fun i v1674 v1676 k1_hw10 k1_t91 k1_t95 => k1_hw10.2.1.2.2.2.2.2.2.2.2.2.2.2.2.2.2.2.2.2.2.2.2.2.2.2.2.2.2.2.2.2.1 k1_t91 k1_t95
theorem k1_off1292_inb : ∀ (i : grid1.Coords) (v1674 : BitVec 32) (v1676 : BitVec 32) (k1_hw10 : k1_chk10 i v1674 v1676) (k1_t91 : Fin (k1_t91_loop v1674 v1676).trips) (k1_t95 : Fin (k1_t95_loop v1674 v1676 k1_t91).trips), ∀ a, (k1_off1292 v1674 v1676 k1_t91 k1_t95) a + S1x16.size a ≤ S72x256.size a := fun i v1674 v1676 k1_hw10 k1_t91 k1_t95 => k1_hw10.2.1.2.2.2.2.2.2.2.2.2.2.2.2.2.2.2.2.2.2.2.2.2.2.2.2.2.2.2.2.2.2.1 k1_t91 k1_t95
theorem k1_off1293_inb : ∀ (i : grid1.Coords) (v1674 : BitVec 32) (v1676 : BitVec 32) (k1_hw10 : k1_chk10 i v1674 v1676) (k1_t91 : Fin (k1_t91_loop v1674 v1676).trips) (k1_t95 : Fin (k1_t95_loop v1674 v1676 k1_t91).trips), ∀ a, (k1_off1293 v1674 v1676 k1_t91 k1_t95) a + S1x16.size a ≤ S72x256.size a := fun i v1674 v1676 k1_hw10 k1_t91 k1_t95 => k1_hw10.2.1.2.2.2.2.2.2.2.2.2.2.2.2.2.2.2.2.2.2.2.2.2.2.2.2.2.2.2.2.2.2.2 k1_t91 k1_t95
theorem k1_off1294_inb : ∀ (i : grid1.Coords) (v1674 : BitVec 32) (v1676 : BitVec 32) (k1_hw10 : k1_chk10 i v1674 v1676) (k1_t91 : Fin (k1_t91_loop v1674 v1676).trips) (k1_t95 : Fin (k1_t95_loop v1674 v1676 k1_t91).trips), ∀ a, (k1_off1294 v1674 v1676 k1_t91 k1_t95) a + S1x16.size a ≤ S72x256.size a := fun i v1674 v1676 k1_hw10 k1_t91 k1_t95 => k1_hw10.2.2.1.1 k1_t91 k1_t95
theorem k1_off1295_inb : ∀ (i : grid1.Coords) (v1674 : BitVec 32) (v1676 : BitVec 32) (k1_hw10 : k1_chk10 i v1674 v1676) (k1_t91 : Fin (k1_t91_loop v1674 v1676).trips) (k1_t95 : Fin (k1_t95_loop v1674 v1676 k1_t91).trips), ∀ a, (k1_off1295 v1674 v1676 k1_t91 k1_t95) a + S1x16.size a ≤ S72x256.size a := fun i v1674 v1676 k1_hw10 k1_t91 k1_t95 => k1_hw10.2.2.1.2.1 k1_t91 k1_t95
theorem k1_off1296_inb : ∀ (i : grid1.Coords) (v1674 : BitVec 32) (v1676 : BitVec 32) (k1_hw10 : k1_chk10 i v1674 v1676) (k1_t91 : Fin (k1_t91_loop v1674 v1676).trips) (k1_t95 : Fin (k1_t95_loop v1674 v1676 k1_t91).trips), ∀ a, (k1_off1296 v1674 v1676 k1_t91 k1_t95) a + S1x16.size a ≤ S72x256.size a := fun i v1674 v1676 k1_hw10 k1_t91 k1_t95 => k1_hw10.2.2.1.2.2.1 k1_t91 k1_t95
theorem k1_off1297_inb : ∀ (i : grid1.Coords) (v1674 : BitVec 32) (v1676 : BitVec 32) (k1_hw10 : k1_chk10 i v1674 v1676) (k1_t91 : Fin (k1_t91_loop v1674 v1676).trips) (k1_t95 : Fin (k1_t95_loop v1674 v1676 k1_t91).trips), ∀ a, (k1_off1297 v1674 v1676 k1_t91 k1_t95) a + S1x16.size a ≤ S72x256.size a := fun i v1674 v1676 k1_hw10 k1_t91 k1_t95 => k1_hw10.2.2.1.2.2.2.1 k1_t91 k1_t95
theorem k1_off1298_inb : ∀ (i : grid1.Coords) (v1674 : BitVec 32) (v1676 : BitVec 32) (k1_hw10 : k1_chk10 i v1674 v1676) (k1_t91 : Fin (k1_t91_loop v1674 v1676).trips) (k1_t95 : Fin (k1_t95_loop v1674 v1676 k1_t91).trips), ∀ a, (k1_off1298 v1674 v1676 k1_t91 k1_t95) a + S1x16.size a ≤ S72x256.size a := fun i v1674 v1676 k1_hw10 k1_t91 k1_t95 => k1_hw10.2.2.1.2.2.2.2.1 k1_t91 k1_t95
theorem k1_off1299_inb : ∀ (i : grid1.Coords) (v1674 : BitVec 32) (v1676 : BitVec 32) (k1_hw10 : k1_chk10 i v1674 v1676) (k1_t91 : Fin (k1_t91_loop v1674 v1676).trips) (k1_t95 : Fin (k1_t95_loop v1674 v1676 k1_t91).trips), ∀ a, (k1_off1299 v1674 v1676 k1_t91 k1_t95) a + S1x16.size a ≤ S72x256.size a := fun i v1674 v1676 k1_hw10 k1_t91 k1_t95 => k1_hw10.2.2.1.2.2.2.2.2.1 k1_t91 k1_t95
theorem k1_off1300_inb : ∀ (i : grid1.Coords) (v1674 : BitVec 32) (v1676 : BitVec 32) (k1_hw10 : k1_chk10 i v1674 v1676) (k1_t91 : Fin (k1_t91_loop v1674 v1676).trips) (k1_t95 : Fin (k1_t95_loop v1674 v1676 k1_t91).trips), ∀ a, (k1_off1300 v1674 v1676 k1_t91 k1_t95) a + S1x16.size a ≤ S72x256.size a := fun i v1674 v1676 k1_hw10 k1_t91 k1_t95 => k1_hw10.2.2.1.2.2.2.2.2.2.1 k1_t91 k1_t95
theorem k1_off1301_inb : ∀ (i : grid1.Coords) (v1674 : BitVec 32) (v1676 : BitVec 32) (k1_hw10 : k1_chk10 i v1674 v1676) (k1_t91 : Fin (k1_t91_loop v1674 v1676).trips) (k1_t95 : Fin (k1_t95_loop v1674 v1676 k1_t91).trips), ∀ a, (k1_off1301 v1674 v1676 k1_t91 k1_t95) a + S1x16.size a ≤ S72x256.size a := fun i v1674 v1676 k1_hw10 k1_t91 k1_t95 => k1_hw10.2.2.1.2.2.2.2.2.2.2.1 k1_t91 k1_t95
theorem k1_off1302_inb : ∀ (i : grid1.Coords) (v1674 : BitVec 32) (v1676 : BitVec 32) (k1_hw10 : k1_chk10 i v1674 v1676) (k1_t91 : Fin (k1_t91_loop v1674 v1676).trips) (k1_t95 : Fin (k1_t95_loop v1674 v1676 k1_t91).trips), ∀ a, (k1_off1302 v1674 v1676 k1_t91 k1_t95) a + S1x16.size a ≤ S72x256.size a := fun i v1674 v1676 k1_hw10 k1_t91 k1_t95 => k1_hw10.2.2.1.2.2.2.2.2.2.2.2.1 k1_t91 k1_t95
theorem k1_off1303_inb : ∀ (i : grid1.Coords) (v1674 : BitVec 32) (v1676 : BitVec 32) (k1_hw10 : k1_chk10 i v1674 v1676) (k1_t91 : Fin (k1_t91_loop v1674 v1676).trips) (k1_t95 : Fin (k1_t95_loop v1674 v1676 k1_t91).trips), ∀ a, (k1_off1303 v1674 v1676 k1_t91 k1_t95) a + S1x16.size a ≤ S72x256.size a := fun i v1674 v1676 k1_hw10 k1_t91 k1_t95 => k1_hw10.2.2.1.2.2.2.2.2.2.2.2.2.1 k1_t91 k1_t95
theorem k1_t96_ok : ∀ (i : grid1.Coords) (v1674 : BitVec 32) (v1676 : BitVec 32) (k1_hw10 : k1_chk10 i v1674 v1676), (k1_t96_loop v1674 v1676).OK := fun i v1674 v1676 k1_hw10 => k1_hw10.2.2.1.2.2.2.2.2.2.2.2.2.2.1
theorem k1_off1304_inb : ∀ (i : grid1.Coords) (v1674 : BitVec 32) (v1676 : BitVec 32) (k1_hw10 : k1_chk10 i v1674 v1676) (k1_t96 : Fin (k1_t96_loop v1674 v1676).trips), ∀ (k1_h87 : k1_cond87 v1674 v1676 k1_t96 = 1#1), ∀ a, (k1_off1304 i v1674 v1676 k1_t96) a + S72x256.size a ≤ S100000x512.size a := fun i v1674 v1676 k1_hw10 k1_t96 k1_h87 => k1_hw10.2.2.1.2.2.2.2.2.2.2.2.2.2.2.1 k1_t96 k1_h87
theorem k1_off1305_inb : ∀ (i : grid1.Coords) (v1674 : BitVec 32) (v1676 : BitVec 32) (k1_hw10 : k1_chk10 i v1674 v1676) (k1_t96 : Fin (k1_t96_loop v1674 v1676).trips), ∀ (k1_h87 : k1_cond87 v1674 v1676 k1_t96 = 1#1), ∀ (k1_h88 : k1_cond88 v1674 v1676 k1_t96 = 1#1), ∀ a, (k1_off1305 i v1674 v1676 k1_t96) a + S72x256.size a ≤ S100000x512.size a := fun i v1674 v1676 k1_hw10 k1_t96 k1_h87 k1_h88 => k1_hw10.2.2.1.2.2.2.2.2.2.2.2.2.2.2.2.1 k1_t96 k1_h87 k1_h88
theorem k1_t97_ok : ∀ (i : grid1.Coords) (v1674 : BitVec 32) (v1676 : BitVec 32) (k1_hw10 : k1_chk10 i v1674 v1676) (k1_t96 : Fin (k1_t96_loop v1674 v1676).trips), (k1_t97_loop v1674 v1676 k1_t96).OK := fun i v1674 v1676 k1_hw10 k1_t96 => k1_hw10.2.2.1.2.2.2.2.2.2.2.2.2.2.2.2.2.1 k1_t96
theorem k1_off1306_inb : ∀ (i : grid1.Coords) (v1674 : BitVec 32) (v1676 : BitVec 32) (k1_hw10 : k1_chk10 i v1674 v1676) (k1_t96 : Fin (k1_t96_loop v1674 v1676).trips) (k1_t97 : Fin (k1_t97_loop v1674 v1676 k1_t96).trips), ∀ a, (k1_off1306 v1674 v1676 k1_t96 k1_t97) a + S1x16.size a ≤ S72x256.size a := fun i v1674 v1676 k1_hw10 k1_t96 k1_t97 => k1_hw10.2.2.1.2.2.2.2.2.2.2.2.2.2.2.2.2.2.1 k1_t96 k1_t97
theorem k1_off1307_inb : ∀ (i : grid1.Coords) (v1674 : BitVec 32) (v1676 : BitVec 32) (k1_hw10 : k1_chk10 i v1674 v1676) (k1_t96 : Fin (k1_t96_loop v1674 v1676).trips) (k1_t97 : Fin (k1_t97_loop v1674 v1676 k1_t96).trips), ∀ a, (k1_off1307 v1674 v1676 k1_t96 k1_t97) a + S1x16.size a ≤ S72x256.size a := fun i v1674 v1676 k1_hw10 k1_t96 k1_t97 => k1_hw10.2.2.1.2.2.2.2.2.2.2.2.2.2.2.2.2.2.2.1 k1_t96 k1_t97
theorem k1_off1308_inb : ∀ (i : grid1.Coords) (v1674 : BitVec 32) (v1676 : BitVec 32) (k1_hw10 : k1_chk10 i v1674 v1676) (k1_t96 : Fin (k1_t96_loop v1674 v1676).trips) (k1_t97 : Fin (k1_t97_loop v1674 v1676 k1_t96).trips), ∀ a, (k1_off1308 v1674 v1676 k1_t96 k1_t97) a + S1x16.size a ≤ S72x256.size a := fun i v1674 v1676 k1_hw10 k1_t96 k1_t97 => k1_hw10.2.2.1.2.2.2.2.2.2.2.2.2.2.2.2.2.2.2.2.1 k1_t96 k1_t97
theorem k1_off1309_inb : ∀ (i : grid1.Coords) (v1674 : BitVec 32) (v1676 : BitVec 32) (k1_hw10 : k1_chk10 i v1674 v1676) (k1_t96 : Fin (k1_t96_loop v1674 v1676).trips) (k1_t97 : Fin (k1_t97_loop v1674 v1676 k1_t96).trips), ∀ a, (k1_off1309 v1674 v1676 k1_t96 k1_t97) a + S1x16.size a ≤ S72x256.size a := fun i v1674 v1676 k1_hw10 k1_t96 k1_t97 => k1_hw10.2.2.1.2.2.2.2.2.2.2.2.2.2.2.2.2.2.2.2.2.1 k1_t96 k1_t97
theorem k1_off1310_inb : ∀ (i : grid1.Coords) (v1674 : BitVec 32) (v1676 : BitVec 32) (k1_hw10 : k1_chk10 i v1674 v1676) (k1_t96 : Fin (k1_t96_loop v1674 v1676).trips) (k1_t97 : Fin (k1_t97_loop v1674 v1676 k1_t96).trips), ∀ a, (k1_off1310 v1674 v1676 k1_t96 k1_t97) a + S1x16.size a ≤ S72x256.size a := fun i v1674 v1676 k1_hw10 k1_t96 k1_t97 => k1_hw10.2.2.1.2.2.2.2.2.2.2.2.2.2.2.2.2.2.2.2.2.2.1 k1_t96 k1_t97
theorem k1_off1311_inb : ∀ (i : grid1.Coords) (v1674 : BitVec 32) (v1676 : BitVec 32) (k1_hw10 : k1_chk10 i v1674 v1676) (k1_t96 : Fin (k1_t96_loop v1674 v1676).trips) (k1_t97 : Fin (k1_t97_loop v1674 v1676 k1_t96).trips), ∀ a, (k1_off1311 v1674 v1676 k1_t96 k1_t97) a + S1x16.size a ≤ S72x256.size a := fun i v1674 v1676 k1_hw10 k1_t96 k1_t97 => k1_hw10.2.2.1.2.2.2.2.2.2.2.2.2.2.2.2.2.2.2.2.2.2.2.1 k1_t96 k1_t97
theorem k1_off1312_inb : ∀ (i : grid1.Coords) (v1674 : BitVec 32) (v1676 : BitVec 32) (k1_hw10 : k1_chk10 i v1674 v1676) (k1_t96 : Fin (k1_t96_loop v1674 v1676).trips) (k1_t97 : Fin (k1_t97_loop v1674 v1676 k1_t96).trips), ∀ a, (k1_off1312 v1674 v1676 k1_t96 k1_t97) a + S1x16.size a ≤ S72x256.size a := fun i v1674 v1676 k1_hw10 k1_t96 k1_t97 => k1_hw10.2.2.1.2.2.2.2.2.2.2.2.2.2.2.2.2.2.2.2.2.2.2.2.1 k1_t96 k1_t97
theorem k1_off1313_inb : ∀ (i : grid1.Coords) (v1674 : BitVec 32) (v1676 : BitVec 32) (k1_hw10 : k1_chk10 i v1674 v1676) (k1_t96 : Fin (k1_t96_loop v1674 v1676).trips) (k1_t97 : Fin (k1_t97_loop v1674 v1676 k1_t96).trips), ∀ a, (k1_off1313 v1674 v1676 k1_t96 k1_t97) a + S1x16.size a ≤ S72x256.size a := fun i v1674 v1676 k1_hw10 k1_t96 k1_t97 => k1_hw10.2.2.1.2.2.2.2.2.2.2.2.2.2.2.2.2.2.2.2.2.2.2.2.2.1 k1_t96 k1_t97
theorem k1_off1314_inb : ∀ (i : grid1.Coords) (v1674 : BitVec 32) (v1676 : BitVec 32) (k1_hw10 : k1_chk10 i v1674 v1676) (k1_t96 : Fin (k1_t96_loop v1674 v1676).trips) (k1_t97 : Fin (k1_t97_loop v1674 v1676 k1_t96).trips), ∀ a, (k1_off1314 v1674 v1676 k1_t96 k1_t97) a + S1x16.size a ≤ S72x256.size a := fun i v1674 v1676 k1_hw10 k1_t96 k1_t97 => k1_hw10.2.2.1.2.2.2.2.2.2.2.2.2.2.2.2.2.2.2.2.2.2.2.2.2.2.1 k1_t96 k1_t97
theorem k1_off1315_inb : ∀ (i : grid1.Coords) (v1674 : BitVec 32) (v1676 : BitVec 32) (k1_hw10 : k1_chk10 i v1674 v1676) (k1_t96 : Fin (k1_t96_loop v1674 v1676).trips) (k1_t97 : Fin (k1_t97_loop v1674 v1676 k1_t96).trips), ∀ a, (k1_off1315 v1674 v1676 k1_t96 k1_t97) a + S1x16.size a ≤ S72x256.size a := fun i v1674 v1676 k1_hw10 k1_t96 k1_t97 => k1_hw10.2.2.1.2.2.2.2.2.2.2.2.2.2.2.2.2.2.2.2.2.2.2.2.2.2.2.1 k1_t96 k1_t97
theorem k1_off1316_inb : ∀ (i : grid1.Coords) (v1674 : BitVec 32) (v1676 : BitVec 32) (k1_hw10 : k1_chk10 i v1674 v1676) (k1_t96 : Fin (k1_t96_loop v1674 v1676).trips) (k1_t97 : Fin (k1_t97_loop v1674 v1676 k1_t96).trips), ∀ a, (k1_off1316 v1674 v1676 k1_t96 k1_t97) a + S1x16.size a ≤ S72x256.size a := fun i v1674 v1676 k1_hw10 k1_t96 k1_t97 => k1_hw10.2.2.1.2.2.2.2.2.2.2.2.2.2.2.2.2.2.2.2.2.2.2.2.2.2.2.2.1 k1_t96 k1_t97
theorem k1_off1317_inb : ∀ (i : grid1.Coords) (v1674 : BitVec 32) (v1676 : BitVec 32) (k1_hw10 : k1_chk10 i v1674 v1676) (k1_t96 : Fin (k1_t96_loop v1674 v1676).trips) (k1_t97 : Fin (k1_t97_loop v1674 v1676 k1_t96).trips), ∀ a, (k1_off1317 v1674 v1676 k1_t96 k1_t97) a + S1x16.size a ≤ S72x256.size a := fun i v1674 v1676 k1_hw10 k1_t96 k1_t97 => k1_hw10.2.2.1.2.2.2.2.2.2.2.2.2.2.2.2.2.2.2.2.2.2.2.2.2.2.2.2.2.1 k1_t96 k1_t97
theorem k1_off1318_inb : ∀ (i : grid1.Coords) (v1674 : BitVec 32) (v1676 : BitVec 32) (k1_hw10 : k1_chk10 i v1674 v1676) (k1_t96 : Fin (k1_t96_loop v1674 v1676).trips) (k1_t97 : Fin (k1_t97_loop v1674 v1676 k1_t96).trips), ∀ a, (k1_off1318 v1674 v1676 k1_t96 k1_t97) a + S1x16.size a ≤ S72x256.size a := fun i v1674 v1676 k1_hw10 k1_t96 k1_t97 => k1_hw10.2.2.1.2.2.2.2.2.2.2.2.2.2.2.2.2.2.2.2.2.2.2.2.2.2.2.2.2.2.1 k1_t96 k1_t97
theorem k1_off1319_inb : ∀ (i : grid1.Coords) (v1674 : BitVec 32) (v1676 : BitVec 32) (k1_hw10 : k1_chk10 i v1674 v1676) (k1_t96 : Fin (k1_t96_loop v1674 v1676).trips) (k1_t97 : Fin (k1_t97_loop v1674 v1676 k1_t96).trips), ∀ a, (k1_off1319 v1674 v1676 k1_t96 k1_t97) a + S1x16.size a ≤ S72x256.size a := fun i v1674 v1676 k1_hw10 k1_t96 k1_t97 => k1_hw10.2.2.1.2.2.2.2.2.2.2.2.2.2.2.2.2.2.2.2.2.2.2.2.2.2.2.2.2.2.2.1 k1_t96 k1_t97
theorem k1_off1320_inb : ∀ (i : grid1.Coords) (v1674 : BitVec 32) (v1676 : BitVec 32) (k1_hw10 : k1_chk10 i v1674 v1676) (k1_t96 : Fin (k1_t96_loop v1674 v1676).trips) (k1_t97 : Fin (k1_t97_loop v1674 v1676 k1_t96).trips), ∀ a, (k1_off1320 v1674 v1676 k1_t96 k1_t97) a + S1x16.size a ≤ S72x256.size a := fun i v1674 v1676 k1_hw10 k1_t96 k1_t97 => k1_hw10.2.2.1.2.2.2.2.2.2.2.2.2.2.2.2.2.2.2.2.2.2.2.2.2.2.2.2.2.2.2.2.1 k1_t96 k1_t97
theorem k1_off1321_inb : ∀ (i : grid1.Coords) (v1674 : BitVec 32) (v1676 : BitVec 32) (k1_hw10 : k1_chk10 i v1674 v1676) (k1_t96 : Fin (k1_t96_loop v1674 v1676).trips) (k1_t97 : Fin (k1_t97_loop v1674 v1676 k1_t96).trips), ∀ a, (k1_off1321 v1674 v1676 k1_t96 k1_t97) a + S1x16.size a ≤ S72x256.size a := fun i v1674 v1676 k1_hw10 k1_t96 k1_t97 => k1_hw10.2.2.1.2.2.2.2.2.2.2.2.2.2.2.2.2.2.2.2.2.2.2.2.2.2.2.2.2.2.2.2.2.1 k1_t96 k1_t97
theorem k1_t98_ok : ∀ (i : grid1.Coords) (v1674 : BitVec 32) (v1676 : BitVec 32) (k1_hw10 : k1_chk10 i v1674 v1676) (k1_t96 : Fin (k1_t96_loop v1674 v1676).trips), (k1_t98_loop v1674 v1676 k1_t96).OK := fun i v1674 v1676 k1_hw10 k1_t96 => k1_hw10.2.2.1.2.2.2.2.2.2.2.2.2.2.2.2.2.2.2.2.2.2.2.2.2.2.2.2.2.2.2.2.2.2.1 k1_t96
theorem k1_off1322_inb : ∀ (i : grid1.Coords) (v1674 : BitVec 32) (v1676 : BitVec 32) (k1_hw10 : k1_chk10 i v1674 v1676) (k1_t96 : Fin (k1_t96_loop v1674 v1676).trips) (k1_t98 : Fin (k1_t98_loop v1674 v1676 k1_t96).trips), ∀ a, (k1_off1322 v1674 v1676 k1_t96 k1_t98) a + S1x16.size a ≤ S72x256.size a := fun i v1674 v1676 k1_hw10 k1_t96 k1_t98 => k1_hw10.2.2.1.2.2.2.2.2.2.2.2.2.2.2.2.2.2.2.2.2.2.2.2.2.2.2.2.2.2.2.2.2.2.2 k1_t96 k1_t98
theorem k1_off1323_inb : ∀ (i : grid1.Coords) (v1674 : BitVec 32) (v1676 : BitVec 32) (k1_hw10 : k1_chk10 i v1674 v1676) (k1_t96 : Fin (k1_t96_loop v1674 v1676).trips) (k1_t98 : Fin (k1_t98_loop v1674 v1676 k1_t96).trips), ∀ a, (k1_off1323 v1674 v1676 k1_t96 k1_t98) a + S1x16.size a ≤ S72x256.size a := fun i v1674 v1676 k1_hw10 k1_t96 k1_t98 => k1_hw10.2.2.2.1.1 k1_t96 k1_t98
theorem k1_off1324_inb : ∀ (i : grid1.Coords) (v1674 : BitVec 32) (v1676 : BitVec 32) (k1_hw10 : k1_chk10 i v1674 v1676) (k1_t96 : Fin (k1_t96_loop v1674 v1676).trips) (k1_t98 : Fin (k1_t98_loop v1674 v1676 k1_t96).trips), ∀ a, (k1_off1324 v1674 v1676 k1_t96 k1_t98) a + S1x16.size a ≤ S72x256.size a := fun i v1674 v1676 k1_hw10 k1_t96 k1_t98 => k1_hw10.2.2.2.1.2.1 k1_t96 k1_t98
theorem k1_off1325_inb : ∀ (i : grid1.Coords) (v1674 : BitVec 32) (v1676 : BitVec 32) (k1_hw10 : k1_chk10 i v1674 v1676) (k1_t96 : Fin (k1_t96_loop v1674 v1676).trips) (k1_t98 : Fin (k1_t98_loop v1674 v1676 k1_t96).trips), ∀ a, (k1_off1325 v1674 v1676 k1_t96 k1_t98) a + S1x16.size a ≤ S72x256.size a := fun i v1674 v1676 k1_hw10 k1_t96 k1_t98 => k1_hw10.2.2.2.1.2.2.1 k1_t96 k1_t98
theorem k1_off1326_inb : ∀ (i : grid1.Coords) (v1674 : BitVec 32) (v1676 : BitVec 32) (k1_hw10 : k1_chk10 i v1674 v1676) (k1_t96 : Fin (k1_t96_loop v1674 v1676).trips) (k1_t98 : Fin (k1_t98_loop v1674 v1676 k1_t96).trips), ∀ a, (k1_off1326 v1674 v1676 k1_t96 k1_t98) a + S1x16.size a ≤ S72x256.size a := fun i v1674 v1676 k1_hw10 k1_t96 k1_t98 => k1_hw10.2.2.2.1.2.2.2.1 k1_t96 k1_t98
theorem k1_off1327_inb : ∀ (i : grid1.Coords) (v1674 : BitVec 32) (v1676 : BitVec 32) (k1_hw10 : k1_chk10 i v1674 v1676) (k1_t96 : Fin (k1_t96_loop v1674 v1676).trips) (k1_t98 : Fin (k1_t98_loop v1674 v1676 k1_t96).trips), ∀ a, (k1_off1327 v1674 v1676 k1_t96 k1_t98) a + S1x16.size a ≤ S72x256.size a := fun i v1674 v1676 k1_hw10 k1_t96 k1_t98 => k1_hw10.2.2.2.1.2.2.2.2.1 k1_t96 k1_t98
theorem k1_off1328_inb : ∀ (i : grid1.Coords) (v1674 : BitVec 32) (v1676 : BitVec 32) (k1_hw10 : k1_chk10 i v1674 v1676) (k1_t96 : Fin (k1_t96_loop v1674 v1676).trips) (k1_t98 : Fin (k1_t98_loop v1674 v1676 k1_t96).trips), ∀ a, (k1_off1328 v1674 v1676 k1_t96 k1_t98) a + S1x16.size a ≤ S72x256.size a := fun i v1674 v1676 k1_hw10 k1_t96 k1_t98 => k1_hw10.2.2.2.1.2.2.2.2.2.1 k1_t96 k1_t98
theorem k1_off1329_inb : ∀ (i : grid1.Coords) (v1674 : BitVec 32) (v1676 : BitVec 32) (k1_hw10 : k1_chk10 i v1674 v1676) (k1_t96 : Fin (k1_t96_loop v1674 v1676).trips) (k1_t98 : Fin (k1_t98_loop v1674 v1676 k1_t96).trips), ∀ a, (k1_off1329 v1674 v1676 k1_t96 k1_t98) a + S1x16.size a ≤ S72x256.size a := fun i v1674 v1676 k1_hw10 k1_t96 k1_t98 => k1_hw10.2.2.2.1.2.2.2.2.2.2.1 k1_t96 k1_t98
theorem k1_off1330_inb : ∀ (i : grid1.Coords) (v1674 : BitVec 32) (v1676 : BitVec 32) (k1_hw10 : k1_chk10 i v1674 v1676) (k1_t96 : Fin (k1_t96_loop v1674 v1676).trips) (k1_t98 : Fin (k1_t98_loop v1674 v1676 k1_t96).trips), ∀ a, (k1_off1330 v1674 v1676 k1_t96 k1_t98) a + S1x16.size a ≤ S72x256.size a := fun i v1674 v1676 k1_hw10 k1_t96 k1_t98 => k1_hw10.2.2.2.1.2.2.2.2.2.2.2.1 k1_t96 k1_t98
theorem k1_off1331_inb : ∀ (i : grid1.Coords) (v1674 : BitVec 32) (v1676 : BitVec 32) (k1_hw10 : k1_chk10 i v1674 v1676) (k1_t96 : Fin (k1_t96_loop v1674 v1676).trips) (k1_t98 : Fin (k1_t98_loop v1674 v1676 k1_t96).trips), ∀ a, (k1_off1331 v1674 v1676 k1_t96 k1_t98) a + S1x16.size a ≤ S72x256.size a := fun i v1674 v1676 k1_hw10 k1_t96 k1_t98 => k1_hw10.2.2.2.1.2.2.2.2.2.2.2.2.1 k1_t96 k1_t98
theorem k1_off1332_inb : ∀ (i : grid1.Coords) (v1674 : BitVec 32) (v1676 : BitVec 32) (k1_hw10 : k1_chk10 i v1674 v1676) (k1_t96 : Fin (k1_t96_loop v1674 v1676).trips) (k1_t98 : Fin (k1_t98_loop v1674 v1676 k1_t96).trips), ∀ a, (k1_off1332 v1674 v1676 k1_t96 k1_t98) a + S1x16.size a ≤ S72x256.size a := fun i v1674 v1676 k1_hw10 k1_t96 k1_t98 => k1_hw10.2.2.2.1.2.2.2.2.2.2.2.2.2.1 k1_t96 k1_t98
theorem k1_off1333_inb : ∀ (i : grid1.Coords) (v1674 : BitVec 32) (v1676 : BitVec 32) (k1_hw10 : k1_chk10 i v1674 v1676) (k1_t96 : Fin (k1_t96_loop v1674 v1676).trips) (k1_t98 : Fin (k1_t98_loop v1674 v1676 k1_t96).trips), ∀ a, (k1_off1333 v1674 v1676 k1_t96 k1_t98) a + S1x16.size a ≤ S72x256.size a := fun i v1674 v1676 k1_hw10 k1_t96 k1_t98 => k1_hw10.2.2.2.1.2.2.2.2.2.2.2.2.2.2.1 k1_t96 k1_t98
theorem k1_off1334_inb : ∀ (i : grid1.Coords) (v1674 : BitVec 32) (v1676 : BitVec 32) (k1_hw10 : k1_chk10 i v1674 v1676) (k1_t96 : Fin (k1_t96_loop v1674 v1676).trips) (k1_t98 : Fin (k1_t98_loop v1674 v1676 k1_t96).trips), ∀ a, (k1_off1334 v1674 v1676 k1_t96 k1_t98) a + S1x16.size a ≤ S72x256.size a := fun i v1674 v1676 k1_hw10 k1_t96 k1_t98 => k1_hw10.2.2.2.1.2.2.2.2.2.2.2.2.2.2.2.1 k1_t96 k1_t98
theorem k1_off1335_inb : ∀ (i : grid1.Coords) (v1674 : BitVec 32) (v1676 : BitVec 32) (k1_hw10 : k1_chk10 i v1674 v1676) (k1_t96 : Fin (k1_t96_loop v1674 v1676).trips) (k1_t98 : Fin (k1_t98_loop v1674 v1676 k1_t96).trips), ∀ a, (k1_off1335 v1674 v1676 k1_t96 k1_t98) a + S1x16.size a ≤ S72x256.size a := fun i v1674 v1676 k1_hw10 k1_t96 k1_t98 => k1_hw10.2.2.2.1.2.2.2.2.2.2.2.2.2.2.2.2.1 k1_t96 k1_t98
theorem k1_off1336_inb : ∀ (i : grid1.Coords) (v1674 : BitVec 32) (v1676 : BitVec 32) (k1_hw10 : k1_chk10 i v1674 v1676) (k1_t96 : Fin (k1_t96_loop v1674 v1676).trips) (k1_t98 : Fin (k1_t98_loop v1674 v1676 k1_t96).trips), ∀ a, (k1_off1336 v1674 v1676 k1_t96 k1_t98) a + S1x16.size a ≤ S72x256.size a := fun i v1674 v1676 k1_hw10 k1_t96 k1_t98 => k1_hw10.2.2.2.1.2.2.2.2.2.2.2.2.2.2.2.2.2.1 k1_t96 k1_t98
theorem k1_off1337_inb : ∀ (i : grid1.Coords) (v1674 : BitVec 32) (v1676 : BitVec 32) (k1_hw10 : k1_chk10 i v1674 v1676) (k1_t96 : Fin (k1_t96_loop v1674 v1676).trips) (k1_t98 : Fin (k1_t98_loop v1674 v1676 k1_t96).trips), ∀ a, (k1_off1337 v1674 v1676 k1_t96 k1_t98) a + S1x16.size a ≤ S72x256.size a := fun i v1674 v1676 k1_hw10 k1_t96 k1_t98 => k1_hw10.2.2.2.1.2.2.2.2.2.2.2.2.2.2.2.2.2.2.1 k1_t96 k1_t98
theorem k1_off1338_inb : ∀ (i : grid1.Coords) (v1674 : BitVec 32) (v1676 : BitVec 32) (k1_hw10 : k1_chk10 i v1674 v1676) (k1_t96 : Fin (k1_t96_loop v1674 v1676).trips), ∀ (k1_h89 : k1_cond89 v1674 v1676 k1_t96 = 1#1), ∀ a, (k1_off1338 i v1674 v1676 k1_t96) a + S72x256.size a ≤ S100000x512.size a := fun i v1674 v1676 k1_hw10 k1_t96 k1_h89 => k1_hw10.2.2.2.1.2.2.2.2.2.2.2.2.2.2.2.2.2.2.2.1 k1_t96 k1_h89
theorem k1_off1339_inb : ∀ (i : grid1.Coords) (v1674 : BitVec 32) (v1676 : BitVec 32) (k1_hw10 : k1_chk10 i v1674 v1676) (k1_t96 : Fin (k1_t96_loop v1674 v1676).trips), ∀ (k1_h89 : k1_cond89 v1674 v1676 k1_t96 = 1#1), ∀ (k1_h90 : k1_cond90 v1674 v1676 k1_t96 = 1#1), ∀ a, (k1_off1339 i v1674 v1676 k1_t96) a + S72x256.size a ≤ S100000x512.size a := fun i v1674 v1676 k1_hw10 k1_t96 k1_h89 k1_h90 => k1_hw10.2.2.2.1.2.2.2.2.2.2.2.2.2.2.2.2.2.2.2.2.1 k1_t96 k1_h89 k1_h90
theorem k1_t99_ok : ∀ (i : grid1.Coords) (v1674 : BitVec 32) (v1676 : BitVec 32) (k1_hw10 : k1_chk10 i v1674 v1676) (k1_t96 : Fin (k1_t96_loop v1674 v1676).trips), (k1_t99_loop v1674 v1676 k1_t96).OK := fun i v1674 v1676 k1_hw10 k1_t96 => k1_hw10.2.2.2.1.2.2.2.2.2.2.2.2.2.2.2.2.2.2.2.2.2.1 k1_t96
theorem k1_off1340_inb : ∀ (i : grid1.Coords) (v1674 : BitVec 32) (v1676 : BitVec 32) (k1_hw10 : k1_chk10 i v1674 v1676) (k1_t96 : Fin (k1_t96_loop v1674 v1676).trips) (k1_t99 : Fin (k1_t99_loop v1674 v1676 k1_t96).trips), ∀ a, (k1_off1340 v1674 v1676 k1_t96 k1_t99) a + S1x16.size a ≤ S72x256.size a := fun i v1674 v1676 k1_hw10 k1_t96 k1_t99 => k1_hw10.2.2.2.1.2.2.2.2.2.2.2.2.2.2.2.2.2.2.2.2.2.2.1 k1_t96 k1_t99
theorem k1_off1341_inb : ∀ (i : grid1.Coords) (v1674 : BitVec 32) (v1676 : BitVec 32) (k1_hw10 : k1_chk10 i v1674 v1676) (k1_t96 : Fin (k1_t96_loop v1674 v1676).trips) (k1_t99 : Fin (k1_t99_loop v1674 v1676 k1_t96).trips), ∀ a, (k1_off1341 v1674 v1676 k1_t96 k1_t99) a + S1x16.size a ≤ S72x256.size a := fun i v1674 v1676 k1_hw10 k1_t96 k1_t99 => k1_hw10.2.2.2.1.2.2.2.2.2.2.2.2.2.2.2.2.2.2.2.2.2.2.2.1 k1_t96 k1_t99
theorem k1_off1342_inb : ∀ (i : grid1.Coords) (v1674 : BitVec 32) (v1676 : BitVec 32) (k1_hw10 : k1_chk10 i v1674 v1676) (k1_t96 : Fin (k1_t96_loop v1674 v1676).trips) (k1_t99 : Fin (k1_t99_loop v1674 v1676 k1_t96).trips), ∀ a, (k1_off1342 v1674 v1676 k1_t96 k1_t99) a + S1x16.size a ≤ S72x256.size a := fun i v1674 v1676 k1_hw10 k1_t96 k1_t99 => k1_hw10.2.2.2.1.2.2.2.2.2.2.2.2.2.2.2.2.2.2.2.2.2.2.2.2.1 k1_t96 k1_t99
theorem k1_off1343_inb : ∀ (i : grid1.Coords) (v1674 : BitVec 32) (v1676 : BitVec 32) (k1_hw10 : k1_chk10 i v1674 v1676) (k1_t96 : Fin (k1_t96_loop v1674 v1676).trips) (k1_t99 : Fin (k1_t99_loop v1674 v1676 k1_t96).trips), ∀ a, (k1_off1343 v1674 v1676 k1_t96 k1_t99) a + S1x16.size a ≤ S72x256.size a := fun i v1674 v1676 k1_hw10 k1_t96 k1_t99 => k1_hw10.2.2.2.1.2.2.2.2.2.2.2.2.2.2.2.2.2.2.2.2.2.2.2.2.2.1 k1_t96 k1_t99
theorem k1_off1344_inb : ∀ (i : grid1.Coords) (v1674 : BitVec 32) (v1676 : BitVec 32) (k1_hw10 : k1_chk10 i v1674 v1676) (k1_t96 : Fin (k1_t96_loop v1674 v1676).trips) (k1_t99 : Fin (k1_t99_loop v1674 v1676 k1_t96).trips), ∀ a, (k1_off1344 v1674 v1676 k1_t96 k1_t99) a + S1x16.size a ≤ S72x256.size a := fun i v1674 v1676 k1_hw10 k1_t96 k1_t99 => k1_hw10.2.2.2.1.2.2.2.2.2.2.2.2.2.2.2.2.2.2.2.2.2.2.2.2.2.2.1 k1_t96 k1_t99
theorem k1_off1345_inb : ∀ (i : grid1.Coords) (v1674 : BitVec 32) (v1676 : BitVec 32) (k1_hw10 : k1_chk10 i v1674 v1676) (k1_t96 : Fin (k1_t96_loop v1674 v1676).trips) (k1_t99 : Fin (k1_t99_loop v1674 v1676 k1_t96).trips), ∀ a, (k1_off1345 v1674 v1676 k1_t96 k1_t99) a + S1x16.size a ≤ S72x256.size a := fun i v1674 v1676 k1_hw10 k1_t96 k1_t99 => k1_hw10.2.2.2.1.2.2.2.2.2.2.2.2.2.2.2.2.2.2.2.2.2.2.2.2.2.2.2.1 k1_t96 k1_t99
theorem k1_off1346_inb : ∀ (i : grid1.Coords) (v1674 : BitVec 32) (v1676 : BitVec 32) (k1_hw10 : k1_chk10 i v1674 v1676) (k1_t96 : Fin (k1_t96_loop v1674 v1676).trips) (k1_t99 : Fin (k1_t99_loop v1674 v1676 k1_t96).trips), ∀ a, (k1_off1346 v1674 v1676 k1_t96 k1_t99) a + S1x16.size a ≤ S72x256.size a := fun i v1674 v1676 k1_hw10 k1_t96 k1_t99 => k1_hw10.2.2.2.1.2.2.2.2.2.2.2.2.2.2.2.2.2.2.2.2.2.2.2.2.2.2.2.2.1 k1_t96 k1_t99
theorem k1_off1347_inb : ∀ (i : grid1.Coords) (v1674 : BitVec 32) (v1676 : BitVec 32) (k1_hw10 : k1_chk10 i v1674 v1676) (k1_t96 : Fin (k1_t96_loop v1674 v1676).trips) (k1_t99 : Fin (k1_t99_loop v1674 v1676 k1_t96).trips), ∀ a, (k1_off1347 v1674 v1676 k1_t96 k1_t99) a + S1x16.size a ≤ S72x256.size a := fun i v1674 v1676 k1_hw10 k1_t96 k1_t99 => k1_hw10.2.2.2.1.2.2.2.2.2.2.2.2.2.2.2.2.2.2.2.2.2.2.2.2.2.2.2.2.2.1 k1_t96 k1_t99
theorem k1_off1348_inb : ∀ (i : grid1.Coords) (v1674 : BitVec 32) (v1676 : BitVec 32) (k1_hw10 : k1_chk10 i v1674 v1676) (k1_t96 : Fin (k1_t96_loop v1674 v1676).trips) (k1_t99 : Fin (k1_t99_loop v1674 v1676 k1_t96).trips), ∀ a, (k1_off1348 v1674 v1676 k1_t96 k1_t99) a + S1x16.size a ≤ S72x256.size a := fun i v1674 v1676 k1_hw10 k1_t96 k1_t99 => k1_hw10.2.2.2.1.2.2.2.2.2.2.2.2.2.2.2.2.2.2.2.2.2.2.2.2.2.2.2.2.2.2.1 k1_t96 k1_t99
theorem k1_off1349_inb : ∀ (i : grid1.Coords) (v1674 : BitVec 32) (v1676 : BitVec 32) (k1_hw10 : k1_chk10 i v1674 v1676) (k1_t96 : Fin (k1_t96_loop v1674 v1676).trips) (k1_t99 : Fin (k1_t99_loop v1674 v1676 k1_t96).trips), ∀ a, (k1_off1349 v1674 v1676 k1_t96 k1_t99) a + S1x16.size a ≤ S72x256.size a := fun i v1674 v1676 k1_hw10 k1_t96 k1_t99 => k1_hw10.2.2.2.1.2.2.2.2.2.2.2.2.2.2.2.2.2.2.2.2.2.2.2.2.2.2.2.2.2.2.2.1 k1_t96 k1_t99
theorem k1_off1350_inb : ∀ (i : grid1.Coords) (v1674 : BitVec 32) (v1676 : BitVec 32) (k1_hw10 : k1_chk10 i v1674 v1676) (k1_t96 : Fin (k1_t96_loop v1674 v1676).trips) (k1_t99 : Fin (k1_t99_loop v1674 v1676 k1_t96).trips), ∀ a, (k1_off1350 v1674 v1676 k1_t96 k1_t99) a + S1x16.size a ≤ S72x256.size a := fun i v1674 v1676 k1_hw10 k1_t96 k1_t99 => k1_hw10.2.2.2.1.2.2.2.2.2.2.2.2.2.2.2.2.2.2.2.2.2.2.2.2.2.2.2.2.2.2.2.2.1 k1_t96 k1_t99
theorem k1_off1351_inb : ∀ (i : grid1.Coords) (v1674 : BitVec 32) (v1676 : BitVec 32) (k1_hw10 : k1_chk10 i v1674 v1676) (k1_t96 : Fin (k1_t96_loop v1674 v1676).trips) (k1_t99 : Fin (k1_t99_loop v1674 v1676 k1_t96).trips), ∀ a, (k1_off1351 v1674 v1676 k1_t96 k1_t99) a + S1x16.size a ≤ S72x256.size a := fun i v1674 v1676 k1_hw10 k1_t96 k1_t99 => k1_hw10.2.2.2.1.2.2.2.2.2.2.2.2.2.2.2.2.2.2.2.2.2.2.2.2.2.2.2.2.2.2.2.2.2.1 k1_t96 k1_t99
theorem k1_off1352_inb : ∀ (i : grid1.Coords) (v1674 : BitVec 32) (v1676 : BitVec 32) (k1_hw10 : k1_chk10 i v1674 v1676) (k1_t96 : Fin (k1_t96_loop v1674 v1676).trips) (k1_t99 : Fin (k1_t99_loop v1674 v1676 k1_t96).trips), ∀ a, (k1_off1352 v1674 v1676 k1_t96 k1_t99) a + S1x16.size a ≤ S72x256.size a := fun i v1674 v1676 k1_hw10 k1_t96 k1_t99 => k1_hw10.2.2.2.1.2.2.2.2.2.2.2.2.2.2.2.2.2.2.2.2.2.2.2.2.2.2.2.2.2.2.2.2.2.2.1 k1_t96 k1_t99
theorem k1_off1353_inb : ∀ (i : grid1.Coords) (v1674 : BitVec 32) (v1676 : BitVec 32) (k1_hw10 : k1_chk10 i v1674 v1676) (k1_t96 : Fin (k1_t96_loop v1674 v1676).trips) (k1_t99 : Fin (k1_t99_loop v1674 v1676 k1_t96).trips), ∀ a, (k1_off1353 v1674 v1676 k1_t96 k1_t99) a + S1x16.size a ≤ S72x256.size a := fun i v1674 v1676 k1_hw10 k1_t96 k1_t99 => k1_hw10.2.2.2.1.2.2.2.2.2.2.2.2.2.2.2.2.2.2.2.2.2.2.2.2.2.2.2.2.2.2.2.2.2.2.2 k1_t96 k1_t99
theorem k1_off1354_inb : ∀ (i : grid1.Coords) (v1674 : BitVec 32) (v1676 : BitVec 32) (k1_hw10 : k1_chk10 i v1674 v1676) (k1_t96 : Fin (k1_t96_loop v1674 v1676).trips) (k1_t99 : Fin (k1_t99_loop v1674 v1676 k1_t96).trips), ∀ a, (k1_off1354 v1674 v1676 k1_t96 k1_t99) a + S1x16.size a ≤ S72x256.size a := fun i v1674 v1676 k1_hw10 k1_t96 k1_t99 => k1_hw10.2.2.2.2.1 k1_t96 k1_t99
theorem k1_off1355_inb : ∀ (i : grid1.Coords) (v1674 : BitVec 32) (v1676 : BitVec 32) (k1_hw10 : k1_chk10 i v1674 v1676) (k1_t96 : Fin (k1_t96_loop v1674 v1676).trips) (k1_t99 : Fin (k1_t99_loop v1674 v1676 k1_t96).trips), ∀ a, (k1_off1355 v1674 v1676 k1_t96 k1_t99) a + S1x16.size a ≤ S72x256.size a := fun i v1674 v1676 k1_hw10 k1_t96 k1_t99 => k1_hw10.2.2.2.2.2.1 k1_t96 k1_t99
theorem k1_t100_ok : ∀ (i : grid1.Coords) (v1674 : BitVec 32) (v1676 : BitVec 32) (k1_hw10 : k1_chk10 i v1674 v1676) (k1_t96 : Fin (k1_t96_loop v1674 v1676).trips), (k1_t100_loop v1674 v1676 k1_t96).OK := fun i v1674 v1676 k1_hw10 k1_t96 => k1_hw10.2.2.2.2.2.2.1 k1_t96
theorem k1_off1356_inb : ∀ (i : grid1.Coords) (v1674 : BitVec 32) (v1676 : BitVec 32) (k1_hw10 : k1_chk10 i v1674 v1676) (k1_t96 : Fin (k1_t96_loop v1674 v1676).trips) (k1_t100 : Fin (k1_t100_loop v1674 v1676 k1_t96).trips), ∀ a, (k1_off1356 v1674 v1676 k1_t96 k1_t100) a + S1x16.size a ≤ S72x256.size a := fun i v1674 v1676 k1_hw10 k1_t96 k1_t100 => k1_hw10.2.2.2.2.2.2.2.1 k1_t96 k1_t100
theorem k1_off1357_inb : ∀ (i : grid1.Coords) (v1674 : BitVec 32) (v1676 : BitVec 32) (k1_hw10 : k1_chk10 i v1674 v1676) (k1_t96 : Fin (k1_t96_loop v1674 v1676).trips) (k1_t100 : Fin (k1_t100_loop v1674 v1676 k1_t96).trips), ∀ a, (k1_off1357 v1674 v1676 k1_t96 k1_t100) a + S1x16.size a ≤ S72x256.size a := fun i v1674 v1676 k1_hw10 k1_t96 k1_t100 => k1_hw10.2.2.2.2.2.2.2.2.1 k1_t96 k1_t100
theorem k1_off1358_inb : ∀ (i : grid1.Coords) (v1674 : BitVec 32) (v1676 : BitVec 32) (k1_hw10 : k1_chk10 i v1674 v1676) (k1_t96 : Fin (k1_t96_loop v1674 v1676).trips) (k1_t100 : Fin (k1_t100_loop v1674 v1676 k1_t96).trips), ∀ a, (k1_off1358 v1674 v1676 k1_t96 k1_t100) a + S1x16.size a ≤ S72x256.size a := fun i v1674 v1676 k1_hw10 k1_t96 k1_t100 => k1_hw10.2.2.2.2.2.2.2.2.2.1 k1_t96 k1_t100
theorem k1_off1359_inb : ∀ (i : grid1.Coords) (v1674 : BitVec 32) (v1676 : BitVec 32) (k1_hw10 : k1_chk10 i v1674 v1676) (k1_t96 : Fin (k1_t96_loop v1674 v1676).trips) (k1_t100 : Fin (k1_t100_loop v1674 v1676 k1_t96).trips), ∀ a, (k1_off1359 v1674 v1676 k1_t96 k1_t100) a + S1x16.size a ≤ S72x256.size a := fun i v1674 v1676 k1_hw10 k1_t96 k1_t100 => k1_hw10.2.2.2.2.2.2.2.2.2.2.1 k1_t96 k1_t100
theorem k1_off1360_inb : ∀ (i : grid1.Coords) (v1674 : BitVec 32) (v1676 : BitVec 32) (k1_hw10 : k1_chk10 i v1674 v1676) (k1_t96 : Fin (k1_t96_loop v1674 v1676).trips) (k1_t100 : Fin (k1_t100_loop v1674 v1676 k1_t96).trips), ∀ a, (k1_off1360 v1674 v1676 k1_t96 k1_t100) a + S1x16.size a ≤ S72x256.size a := fun i v1674 v1676 k1_hw10 k1_t96 k1_t100 => k1_hw10.2.2.2.2.2.2.2.2.2.2.2.1 k1_t96 k1_t100
theorem k1_off1361_inb : ∀ (i : grid1.Coords) (v1674 : BitVec 32) (v1676 : BitVec 32) (k1_hw10 : k1_chk10 i v1674 v1676) (k1_t96 : Fin (k1_t96_loop v1674 v1676).trips) (k1_t100 : Fin (k1_t100_loop v1674 v1676 k1_t96).trips), ∀ a, (k1_off1361 v1674 v1676 k1_t96 k1_t100) a + S1x16.size a ≤ S72x256.size a := fun i v1674 v1676 k1_hw10 k1_t96 k1_t100 => k1_hw10.2.2.2.2.2.2.2.2.2.2.2.2.1 k1_t96 k1_t100
theorem k1_off1362_inb : ∀ (i : grid1.Coords) (v1674 : BitVec 32) (v1676 : BitVec 32) (k1_hw10 : k1_chk10 i v1674 v1676) (k1_t96 : Fin (k1_t96_loop v1674 v1676).trips) (k1_t100 : Fin (k1_t100_loop v1674 v1676 k1_t96).trips), ∀ a, (k1_off1362 v1674 v1676 k1_t96 k1_t100) a + S1x16.size a ≤ S72x256.size a := fun i v1674 v1676 k1_hw10 k1_t96 k1_t100 => k1_hw10.2.2.2.2.2.2.2.2.2.2.2.2.2.1 k1_t96 k1_t100
theorem k1_off1363_inb : ∀ (i : grid1.Coords) (v1674 : BitVec 32) (v1676 : BitVec 32) (k1_hw10 : k1_chk10 i v1674 v1676) (k1_t96 : Fin (k1_t96_loop v1674 v1676).trips) (k1_t100 : Fin (k1_t100_loop v1674 v1676 k1_t96).trips), ∀ a, (k1_off1363 v1674 v1676 k1_t96 k1_t100) a + S1x16.size a ≤ S72x256.size a := fun i v1674 v1676 k1_hw10 k1_t96 k1_t100 => k1_hw10.2.2.2.2.2.2.2.2.2.2.2.2.2.2.1 k1_t96 k1_t100
theorem k1_off1364_inb : ∀ (i : grid1.Coords) (v1674 : BitVec 32) (v1676 : BitVec 32) (k1_hw10 : k1_chk10 i v1674 v1676) (k1_t96 : Fin (k1_t96_loop v1674 v1676).trips) (k1_t100 : Fin (k1_t100_loop v1674 v1676 k1_t96).trips), ∀ a, (k1_off1364 v1674 v1676 k1_t96 k1_t100) a + S1x16.size a ≤ S72x256.size a := fun i v1674 v1676 k1_hw10 k1_t96 k1_t100 => k1_hw10.2.2.2.2.2.2.2.2.2.2.2.2.2.2.2.1 k1_t96 k1_t100
theorem k1_off1365_inb : ∀ (i : grid1.Coords) (v1674 : BitVec 32) (v1676 : BitVec 32) (k1_hw10 : k1_chk10 i v1674 v1676) (k1_t96 : Fin (k1_t96_loop v1674 v1676).trips) (k1_t100 : Fin (k1_t100_loop v1674 v1676 k1_t96).trips), ∀ a, (k1_off1365 v1674 v1676 k1_t96 k1_t100) a + S1x16.size a ≤ S72x256.size a := fun i v1674 v1676 k1_hw10 k1_t96 k1_t100 => k1_hw10.2.2.2.2.2.2.2.2.2.2.2.2.2.2.2.2.1 k1_t96 k1_t100
theorem k1_off1366_inb : ∀ (i : grid1.Coords) (v1674 : BitVec 32) (v1676 : BitVec 32) (k1_hw10 : k1_chk10 i v1674 v1676) (k1_t96 : Fin (k1_t96_loop v1674 v1676).trips) (k1_t100 : Fin (k1_t100_loop v1674 v1676 k1_t96).trips), ∀ a, (k1_off1366 v1674 v1676 k1_t96 k1_t100) a + S1x16.size a ≤ S72x256.size a := fun i v1674 v1676 k1_hw10 k1_t96 k1_t100 => k1_hw10.2.2.2.2.2.2.2.2.2.2.2.2.2.2.2.2.2.1 k1_t96 k1_t100
theorem k1_off1367_inb : ∀ (i : grid1.Coords) (v1674 : BitVec 32) (v1676 : BitVec 32) (k1_hw10 : k1_chk10 i v1674 v1676) (k1_t96 : Fin (k1_t96_loop v1674 v1676).trips) (k1_t100 : Fin (k1_t100_loop v1674 v1676 k1_t96).trips), ∀ a, (k1_off1367 v1674 v1676 k1_t96 k1_t100) a + S1x16.size a ≤ S72x256.size a := fun i v1674 v1676 k1_hw10 k1_t96 k1_t100 => k1_hw10.2.2.2.2.2.2.2.2.2.2.2.2.2.2.2.2.2.2.1 k1_t96 k1_t100
theorem k1_off1368_inb : ∀ (i : grid1.Coords) (v1674 : BitVec 32) (v1676 : BitVec 32) (k1_hw10 : k1_chk10 i v1674 v1676) (k1_t96 : Fin (k1_t96_loop v1674 v1676).trips) (k1_t100 : Fin (k1_t100_loop v1674 v1676 k1_t96).trips), ∀ a, (k1_off1368 v1674 v1676 k1_t96 k1_t100) a + S1x16.size a ≤ S72x256.size a := fun i v1674 v1676 k1_hw10 k1_t96 k1_t100 => k1_hw10.2.2.2.2.2.2.2.2.2.2.2.2.2.2.2.2.2.2.2.1 k1_t96 k1_t100
theorem k1_off1369_inb : ∀ (i : grid1.Coords) (v1674 : BitVec 32) (v1676 : BitVec 32) (k1_hw10 : k1_chk10 i v1674 v1676) (k1_t96 : Fin (k1_t96_loop v1674 v1676).trips) (k1_t100 : Fin (k1_t100_loop v1674 v1676 k1_t96).trips), ∀ a, (k1_off1369 v1674 v1676 k1_t96 k1_t100) a + S1x16.size a ≤ S72x256.size a := fun i v1674 v1676 k1_hw10 k1_t96 k1_t100 => k1_hw10.2.2.2.2.2.2.2.2.2.2.2.2.2.2.2.2.2.2.2.2.1 k1_t96 k1_t100
theorem k1_off1370_inb : ∀ (i : grid1.Coords) (v1674 : BitVec 32) (v1676 : BitVec 32) (k1_hw10 : k1_chk10 i v1674 v1676) (k1_t96 : Fin (k1_t96_loop v1674 v1676).trips) (k1_t100 : Fin (k1_t100_loop v1674 v1676 k1_t96).trips), ∀ a, (k1_off1370 v1674 v1676 k1_t96 k1_t100) a + S1x16.size a ≤ S72x256.size a := fun i v1674 v1676 k1_hw10 k1_t96 k1_t100 => k1_hw10.2.2.2.2.2.2.2.2.2.2.2.2.2.2.2.2.2.2.2.2.2.1 k1_t96 k1_t100
theorem k1_off1371_inb : ∀ (i : grid1.Coords) (v1674 : BitVec 32) (v1676 : BitVec 32) (k1_hw10 : k1_chk10 i v1674 v1676) (k1_t96 : Fin (k1_t96_loop v1674 v1676).trips) (k1_t100 : Fin (k1_t100_loop v1674 v1676 k1_t96).trips), ∀ a, (k1_off1371 v1674 v1676 k1_t96 k1_t100) a + S1x16.size a ≤ S72x256.size a := fun i v1674 v1676 k1_hw10 k1_t96 k1_t100 => k1_hw10.2.2.2.2.2.2.2.2.2.2.2.2.2.2.2.2.2.2.2.2.2.2 k1_t96 k1_t100

def k1_off1372 (i : grid1.Coords) (v1856 : BitVec 32) : Fin 2 → Nat :=
  let c0_i32_1408 : BitVec 32 := 0#32
  let v2949 : BitVec 32 := Scalar.addi v1856 c0_i32_1408
  let c0_i32_1410 : BitVec 32 := 0#32
  let v2951 : BitVec 1 := Scalar.cmpi .sgt v2949 c0_i32_1410
  let v2952 : BitVec 32 := Scalar.extui v2951
  let c0_i32_1411 : BitVec 32 := 0#32
  let v2953 : BitVec 1 := Scalar.cmpi .slt v2949 c0_i32_1411
  let v2954 : BitVec 32 := Scalar.extui v2953
  let v2955 : BitVec 32 := Scalar.subi v2952 v2954
  let c8_i32_1409 : BitVec 32 := 8#32
  let c0_i32_1412 : BitVec 32 := 0#32
  let v2956 : BitVec 1 := Scalar.cmpi .sgt c8_i32_1409 c0_i32_1412
  let v2957 : BitVec 32 := Scalar.extui v2956
  let c0_i32_1413 : BitVec 32 := 0#32
  let v2958 : BitVec 1 := Scalar.cmpi .slt c8_i32_1409 c0_i32_1413
  let v2959 : BitVec 32 := Scalar.extui v2958
  let v2960 : BitVec 32 := Scalar.subi v2957 v2959
  let v2961 : BitVec 1 := Scalar.cmpi .ne v2955 v2960
  let v2962 : BitVec 32 := Scalar.remsi v2949 c8_i32_1409
  let c0_i32_1414 : BitVec 32 := 0#32
  let v2963 : BitVec 1 := Scalar.cmpi .ne v2962 c0_i32_1414
  let v2964 : BitVec 1 := Scalar.andi v2961 v2963
  let v2950 : BitVec 32 := Scalar.divsi v2949 c8_i32_1409
  let c1_i32_1415 : BitVec 32 := 1#32
  let v2965 : BitVec 32 := Scalar.subi v2950 c1_i32_1415
  let v2966 : BitVec 32 := Scalar.select v2964 v2965 v2950
  let c8_i32_1416 : BitVec 32 := 8#32
  let v2967 : BitVec 32 := Scalar.muli v2966 c8_i32_1416
  let c99928_i32 : BitVec 32 := 99928#32
  let v2968 : BitVec 32 := Scalar.minsi v2967 c99928_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v2968.toNat, v29.toNat]
def k1_cond91 (v1856 : BitVec 32) (v1858 : BitVec 32) : BitVec 1 :=
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c0_i32_889 : BitVec 32 := 0#32
  let v1881 : BitVec 1 := Scalar.cmpi .sgt v1880 c0_i32_889
  let v1882 : BitVec 32 := Scalar.extui v1881
  let c0_i32_890 : BitVec 32 := 0#32
  let v1883 : BitVec 1 := Scalar.cmpi .ne v1882 c0_i32_890
  v1883

@[reducible] def k1_t101_loop (v1856 : BitVec 32) (v1858 : BitVec 32) : Scf.Loop 32 :=
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_901 : BitVec 32 := 1#32
  ⟨c0_i32_899, v1906, c1_i32_901⟩
def k1_off1373 (i : grid1.Coords) (v1856 : BitVec 32) (v1858 : BitVec 32) (k1_t101 : Fin (k1_t101_loop v1856 v1858).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1446 : BitVec 32 := 64#32
  let v3026 : BitVec 32 := Scalar.muli v2949 c64_i32_1446
  let v3027 : BitVec 32 := Scalar.addi v1856 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond92 (v1856 : BitVec 32) (v1858 : BitVec 32) (k1_t101 : Fin (k1_t101_loop v1856 v1858).trips) : BitVec 1 :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let v2950 : BitVec 1 := Scalar.cmpi .slt v2949 v1880
  let v2951 : BitVec 32 := Scalar.extui v2950
  let c0_i32_1409 : BitVec 32 := 0#32
  let v2952 : BitVec 1 := Scalar.cmpi .ne v2951 c0_i32_1409
  v2952

def k1_off1374 (i : grid1.Coords) (v1856 : BitVec 32) (v1858 : BitVec 32) (k1_t101 : Fin (k1_t101_loop v1856 v1858).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v1856 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond93 (v1856 : BitVec 32) (v1858 : BitVec 32) (k1_t101 : Fin (k1_t101_loop v1856 v1858).trips) : BitVec 1 :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c1_i32_1456 : BitVec 32 := 1#32
  let v3049 : BitVec 32 := Scalar.addi v2949 c1_i32_1456
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let v3050 : BitVec 1 := Scalar.cmpi .slt v3049 v1880
  let v3051 : BitVec 32 := Scalar.extui v3050
  let c0_i32_1457 : BitVec 32 := 0#32
  let v3052 : BitVec 1 := Scalar.cmpi .ne v3051 c0_i32_1457
  v3052

@[reducible] def k1_t102_loop (v1856 : BitVec 32) (v1858 : BitVec 32) (k1_t101 : Fin (k1_t101_loop v1856 v1858).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off1375 (v1856 : BitVec 32) (v1858 : BitVec 32) (k1_t101 : Fin (k1_t101_loop v1856 v1858).trips) (k1_t102 : Fin (k1_t102_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t102
  let v3026 : BitVec 32 := Scalar.addi v2976 arg46
  let v3027 : Index := Scalar.indexCast v3026
  let c0_1446 : Index := 0#32
  ![v3027.toNat, 0]
def k1_off1376 (v1856 : BitVec 32) (v1858 : BitVec 32) (k1_t101 : Fin (k1_t101_loop v1856 v1858).trips) (k1_t102 : Fin (k1_t102_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t102
  let v3026 : BitVec 32 := Scalar.addi v2976 arg46
  let v3032 : Index := Scalar.indexCast v3026
  let c16_1447 : Index := 16#32
  ![v3032.toNat, 16]
def k1_off1377 (v1856 : BitVec 32) (v1858 : BitVec 32) (k1_t101 : Fin (k1_t101_loop v1856 v1858).trips) (k1_t102 : Fin (k1_t102_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t102
  let v3026 : BitVec 32 := Scalar.addi v2976 arg46
  let v3037 : Index := Scalar.indexCast v3026
  let c32_1448 : Index := 32#32
  ![v3037.toNat, 32]
def k1_off1378 (v1856 : BitVec 32) (v1858 : BitVec 32) (k1_t101 : Fin (k1_t101_loop v1856 v1858).trips) (k1_t102 : Fin (k1_t102_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t102
  let v3026 : BitVec 32 := Scalar.addi v2976 arg46
  let v3042 : Index := Scalar.indexCast v3026
  let c48_1449 : Index := 48#32
  ![v3042.toNat, 48]
def k1_off1379 (v1856 : BitVec 32) (v1858 : BitVec 32) (k1_t101 : Fin (k1_t101_loop v1856 v1858).trips) (k1_t102 : Fin (k1_t102_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t102
  let v3026 : BitVec 32 := Scalar.addi v2976 arg46
  let v3047 : Index := Scalar.indexCast v3026
  let c64_1450 : Index := 64#32
  ![v3047.toNat, 64]
def k1_off1380 (v1856 : BitVec 32) (v1858 : BitVec 32) (k1_t101 : Fin (k1_t101_loop v1856 v1858).trips) (k1_t102 : Fin (k1_t102_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t102
  let v3026 : BitVec 32 := Scalar.addi v2976 arg46
  let v3052 : Index := Scalar.indexCast v3026
  let c80_1451 : Index := 80#32
  ![v3052.toNat, 80]
def k1_off1381 (v1856 : BitVec 32) (v1858 : BitVec 32) (k1_t101 : Fin (k1_t101_loop v1856 v1858).trips) (k1_t102 : Fin (k1_t102_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t102
  let v3026 : BitVec 32 := Scalar.addi v2976 arg46
  let v3057 : Index := Scalar.indexCast v3026
  let c96_1452 : Index := 96#32
  ![v3057.toNat, 96]
def k1_off1382 (v1856 : BitVec 32) (v1858 : BitVec 32) (k1_t101 : Fin (k1_t101_loop v1856 v1858).trips) (k1_t102 : Fin (k1_t102_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t102
  let v3026 : BitVec 32 := Scalar.addi v2976 arg46
  let v3062 : Index := Scalar.indexCast v3026
  let c112_1453 : Index := 112#32
  ![v3062.toNat, 112]
def k1_off1383 (v1856 : BitVec 32) (v1858 : BitVec 32) (k1_t101 : Fin (k1_t101_loop v1856 v1858).trips) (k1_t102 : Fin (k1_t102_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t102
  let v3026 : BitVec 32 := Scalar.addi v2976 arg46
  let v3067 : Index := Scalar.indexCast v3026
  let c128_1454 : Index := 128#32
  ![v3067.toNat, 128]
def k1_off1384 (v1856 : BitVec 32) (v1858 : BitVec 32) (k1_t101 : Fin (k1_t101_loop v1856 v1858).trips) (k1_t102 : Fin (k1_t102_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t102
  let v3026 : BitVec 32 := Scalar.addi v2976 arg46
  let v3072 : Index := Scalar.indexCast v3026
  let c144_1455 : Index := 144#32
  ![v3072.toNat, 144]
def k1_off1385 (v1856 : BitVec 32) (v1858 : BitVec 32) (k1_t101 : Fin (k1_t101_loop v1856 v1858).trips) (k1_t102 : Fin (k1_t102_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t102
  let v3026 : BitVec 32 := Scalar.addi v2976 arg46
  let v3077 : Index := Scalar.indexCast v3026
  let c160_1456 : Index := 160#32
  ![v3077.toNat, 160]
def k1_off1386 (v1856 : BitVec 32) (v1858 : BitVec 32) (k1_t101 : Fin (k1_t101_loop v1856 v1858).trips) (k1_t102 : Fin (k1_t102_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t102
  let v3026 : BitVec 32 := Scalar.addi v2976 arg46
  let v3082 : Index := Scalar.indexCast v3026
  let c176_1457 : Index := 176#32
  ![v3082.toNat, 176]
def k1_off1387 (v1856 : BitVec 32) (v1858 : BitVec 32) (k1_t101 : Fin (k1_t101_loop v1856 v1858).trips) (k1_t102 : Fin (k1_t102_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t102
  let v3026 : BitVec 32 := Scalar.addi v2976 arg46
  let v3087 : Index := Scalar.indexCast v3026
  let c192_1458 : Index := 192#32
  ![v3087.toNat, 192]
def k1_off1388 (v1856 : BitVec 32) (v1858 : BitVec 32) (k1_t101 : Fin (k1_t101_loop v1856 v1858).trips) (k1_t102 : Fin (k1_t102_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t102
  let v3026 : BitVec 32 := Scalar.addi v2976 arg46
  let v3092 : Index := Scalar.indexCast v3026
  let c208_1459 : Index := 208#32
  ![v3092.toNat, 208]
def k1_off1389 (v1856 : BitVec 32) (v1858 : BitVec 32) (k1_t101 : Fin (k1_t101_loop v1856 v1858).trips) (k1_t102 : Fin (k1_t102_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t102
  let v3026 : BitVec 32 := Scalar.addi v2976 arg46
  let v3097 : Index := Scalar.indexCast v3026
  let c224_1460 : Index := 224#32
  ![v3097.toNat, 224]
def k1_off1390 (v1856 : BitVec 32) (v1858 : BitVec 32) (k1_t101 : Fin (k1_t101_loop v1856 v1858).trips) (k1_t102 : Fin (k1_t102_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t102
  let v3026 : BitVec 32 := Scalar.addi v2976 arg46
  let v3102 : Index := Scalar.indexCast v3026
  let c240_1461 : Index := 240#32
  ![v3102.toNat, 240]
@[reducible] def k1_t103_loop (v1856 : BitVec 32) (v1858 : BitVec 32) (k1_t101 : Fin (k1_t101_loop v1856 v1858).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off1391 (v1856 : BitVec 32) (v1858 : BitVec 32) (k1_t101 : Fin (k1_t101_loop v1856 v1858).trips) (k1_t103 : Fin (k1_t103_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t103
  let v3026 : BitVec 32 := Scalar.addi v2976 arg46
  let v3027 : Index := Scalar.indexCast v3026
  let c0_1446 : Index := 0#32
  ![v3027.toNat, 0]
def k1_off1392 (v1856 : BitVec 32) (v1858 : BitVec 32) (k1_t101 : Fin (k1_t101_loop v1856 v1858).trips) (k1_t103 : Fin (k1_t103_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t103
  let v3026 : BitVec 32 := Scalar.addi v2976 arg46
  let v3032 : Index := Scalar.indexCast v3026
  let c16_1447 : Index := 16#32
  ![v3032.toNat, 16]
def k1_off1393 (v1856 : BitVec 32) (v1858 : BitVec 32) (k1_t101 : Fin (k1_t101_loop v1856 v1858).trips) (k1_t103 : Fin (k1_t103_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t103
  let v3026 : BitVec 32 := Scalar.addi v2976 arg46
  let v3037 : Index := Scalar.indexCast v3026
  let c32_1448 : Index := 32#32
  ![v3037.toNat, 32]
def k1_off1394 (v1856 : BitVec 32) (v1858 : BitVec 32) (k1_t101 : Fin (k1_t101_loop v1856 v1858).trips) (k1_t103 : Fin (k1_t103_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t103
  let v3026 : BitVec 32 := Scalar.addi v2976 arg46
  let v3042 : Index := Scalar.indexCast v3026
  let c48_1449 : Index := 48#32
  ![v3042.toNat, 48]
def k1_off1395 (v1856 : BitVec 32) (v1858 : BitVec 32) (k1_t101 : Fin (k1_t101_loop v1856 v1858).trips) (k1_t103 : Fin (k1_t103_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t103
  let v3026 : BitVec 32 := Scalar.addi v2976 arg46
  let v3047 : Index := Scalar.indexCast v3026
  let c64_1450 : Index := 64#32
  ![v3047.toNat, 64]
def k1_off1396 (v1856 : BitVec 32) (v1858 : BitVec 32) (k1_t101 : Fin (k1_t101_loop v1856 v1858).trips) (k1_t103 : Fin (k1_t103_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t103
  let v3026 : BitVec 32 := Scalar.addi v2976 arg46
  let v3052 : Index := Scalar.indexCast v3026
  let c80_1451 : Index := 80#32
  ![v3052.toNat, 80]
def k1_off1397 (v1856 : BitVec 32) (v1858 : BitVec 32) (k1_t101 : Fin (k1_t101_loop v1856 v1858).trips) (k1_t103 : Fin (k1_t103_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t103
  let v3026 : BitVec 32 := Scalar.addi v2976 arg46
  let v3057 : Index := Scalar.indexCast v3026
  let c96_1452 : Index := 96#32
  ![v3057.toNat, 96]
def k1_off1398 (v1856 : BitVec 32) (v1858 : BitVec 32) (k1_t101 : Fin (k1_t101_loop v1856 v1858).trips) (k1_t103 : Fin (k1_t103_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t103
  let v3026 : BitVec 32 := Scalar.addi v2976 arg46
  let v3062 : Index := Scalar.indexCast v3026
  let c112_1453 : Index := 112#32
  ![v3062.toNat, 112]
def k1_off1399 (v1856 : BitVec 32) (v1858 : BitVec 32) (k1_t101 : Fin (k1_t101_loop v1856 v1858).trips) (k1_t103 : Fin (k1_t103_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t103
  let v3026 : BitVec 32 := Scalar.addi v2976 arg46
  let v3067 : Index := Scalar.indexCast v3026
  let c128_1454 : Index := 128#32
  ![v3067.toNat, 128]
def k1_off1400 (v1856 : BitVec 32) (v1858 : BitVec 32) (k1_t101 : Fin (k1_t101_loop v1856 v1858).trips) (k1_t103 : Fin (k1_t103_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t103
  let v3026 : BitVec 32 := Scalar.addi v2976 arg46
  let v3072 : Index := Scalar.indexCast v3026
  let c144_1455 : Index := 144#32
  ![v3072.toNat, 144]
def k1_off1401 (v1856 : BitVec 32) (v1858 : BitVec 32) (k1_t101 : Fin (k1_t101_loop v1856 v1858).trips) (k1_t103 : Fin (k1_t103_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t103
  let v3026 : BitVec 32 := Scalar.addi v2976 arg46
  let v3077 : Index := Scalar.indexCast v3026
  let c160_1456 : Index := 160#32
  ![v3077.toNat, 160]
def k1_off1402 (v1856 : BitVec 32) (v1858 : BitVec 32) (k1_t101 : Fin (k1_t101_loop v1856 v1858).trips) (k1_t103 : Fin (k1_t103_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t103
  let v3026 : BitVec 32 := Scalar.addi v2976 arg46
  let v3082 : Index := Scalar.indexCast v3026
  let c176_1457 : Index := 176#32
  ![v3082.toNat, 176]
def k1_off1403 (v1856 : BitVec 32) (v1858 : BitVec 32) (k1_t101 : Fin (k1_t101_loop v1856 v1858).trips) (k1_t103 : Fin (k1_t103_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t103
  let v3026 : BitVec 32 := Scalar.addi v2976 arg46
  let v3087 : Index := Scalar.indexCast v3026
  let c192_1458 : Index := 192#32
  ![v3087.toNat, 192]
def k1_off1404 (v1856 : BitVec 32) (v1858 : BitVec 32) (k1_t101 : Fin (k1_t101_loop v1856 v1858).trips) (k1_t103 : Fin (k1_t103_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t103
  let v3026 : BitVec 32 := Scalar.addi v2976 arg46
  let v3092 : Index := Scalar.indexCast v3026
  let c208_1459 : Index := 208#32
  ![v3092.toNat, 208]
def k1_off1405 (v1856 : BitVec 32) (v1858 : BitVec 32) (k1_t101 : Fin (k1_t101_loop v1856 v1858).trips) (k1_t103 : Fin (k1_t103_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t103
  let v3026 : BitVec 32 := Scalar.addi v2976 arg46
  let v3097 : Index := Scalar.indexCast v3026
  let c224_1460 : Index := 224#32
  ![v3097.toNat, 224]
def k1_off1406 (v1856 : BitVec 32) (v1858 : BitVec 32) (k1_t101 : Fin (k1_t101_loop v1856 v1858).trips) (k1_t103 : Fin (k1_t103_loop v1856 v1858 k1_t101).trips) : Fin 2 → Nat :=
  let c2_i32_1408 : BitVec 32 := 2#32
  let c0_i32_899 : BitVec 32 := 0#32
  let c1_i32_901 : BitVec 32 := 1#32
  let arg13 : BitVec 32 := Scf.iv c0_i32_899 c1_i32_901 k1_t101
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t103
  let v3026 : BitVec 32 := Scalar.addi v2976 arg46
  let v3102 : Index := Scalar.indexCast v3026
  let c240_1461 : Index := 240#32
  ![v3102.toNat, 240]
def k1_off1407 (i : grid1.Coords) (v1856 : BitVec 32) (v1858 : BitVec 32) (k1_t101 : Fin (k1_t101_loop v1856 v1858).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v1856 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond94 (v1856 : BitVec 32) (v1858 : BitVec 32) (k1_t101 : Fin (k1_t101_loop v1856 v1858).trips) : BitVec 1 :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let v2989 : BitVec 1 := Scalar.cmpi .slt v2988 v1880
  let v2990 : BitVec 32 := Scalar.extui v2989
  let c0_i32_1428 : BitVec 32 := 0#32
  let v2991 : BitVec 1 := Scalar.cmpi .ne v2990 c0_i32_1428
  v2991

def k1_off1408 (i : grid1.Coords) (v1856 : BitVec 32) (v1858 : BitVec 32) (k1_t101 : Fin (k1_t101_loop v1856 v1858).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v1856 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond95 (v1856 : BitVec 32) (v1858 : BitVec 32) (k1_t101 : Fin (k1_t101_loop v1856 v1858).trips) : BitVec 1 :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let v3050 : BitVec 1 := Scalar.cmpi .slt v3049 v1880
  let v3051 : BitVec 32 := Scalar.extui v3050
  let c0_i32_1457 : BitVec 32 := 0#32
  let v3052 : BitVec 1 := Scalar.cmpi .ne v3051 c0_i32_1457
  v3052

@[reducible] def k1_t104_loop (v1856 : BitVec 32) (v1858 : BitVec 32) (k1_t101 : Fin (k1_t101_loop v1856 v1858).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off1409 (v1856 : BitVec 32) (v1858 : BitVec 32) (k1_t101 : Fin (k1_t101_loop v1856 v1858).trips) (k1_t104 : Fin (k1_t104_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t104
  let v3026 : BitVec 32 := Scalar.addi v3015 arg46
  let v3027 : Index := Scalar.indexCast v3026
  let c0_1446 : Index := 0#32
  ![v3027.toNat, 0]
def k1_off1410 (v1856 : BitVec 32) (v1858 : BitVec 32) (k1_t101 : Fin (k1_t101_loop v1856 v1858).trips) (k1_t104 : Fin (k1_t104_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t104
  let v3026 : BitVec 32 := Scalar.addi v3015 arg46
  let v3032 : Index := Scalar.indexCast v3026
  let c16_1447 : Index := 16#32
  ![v3032.toNat, 16]
def k1_off1411 (v1856 : BitVec 32) (v1858 : BitVec 32) (k1_t101 : Fin (k1_t101_loop v1856 v1858).trips) (k1_t104 : Fin (k1_t104_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t104
  let v3026 : BitVec 32 := Scalar.addi v3015 arg46
  let v3037 : Index := Scalar.indexCast v3026
  let c32_1448 : Index := 32#32
  ![v3037.toNat, 32]
def k1_off1412 (v1856 : BitVec 32) (v1858 : BitVec 32) (k1_t101 : Fin (k1_t101_loop v1856 v1858).trips) (k1_t104 : Fin (k1_t104_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t104
  let v3026 : BitVec 32 := Scalar.addi v3015 arg46
  let v3042 : Index := Scalar.indexCast v3026
  let c48_1449 : Index := 48#32
  ![v3042.toNat, 48]
def k1_off1413 (v1856 : BitVec 32) (v1858 : BitVec 32) (k1_t101 : Fin (k1_t101_loop v1856 v1858).trips) (k1_t104 : Fin (k1_t104_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t104
  let v3026 : BitVec 32 := Scalar.addi v3015 arg46
  let v3047 : Index := Scalar.indexCast v3026
  let c64_1450 : Index := 64#32
  ![v3047.toNat, 64]
def k1_off1414 (v1856 : BitVec 32) (v1858 : BitVec 32) (k1_t101 : Fin (k1_t101_loop v1856 v1858).trips) (k1_t104 : Fin (k1_t104_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t104
  let v3026 : BitVec 32 := Scalar.addi v3015 arg46
  let v3052 : Index := Scalar.indexCast v3026
  let c80_1451 : Index := 80#32
  ![v3052.toNat, 80]
def k1_off1415 (v1856 : BitVec 32) (v1858 : BitVec 32) (k1_t101 : Fin (k1_t101_loop v1856 v1858).trips) (k1_t104 : Fin (k1_t104_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t104
  let v3026 : BitVec 32 := Scalar.addi v3015 arg46
  let v3057 : Index := Scalar.indexCast v3026
  let c96_1452 : Index := 96#32
  ![v3057.toNat, 96]
def k1_off1416 (v1856 : BitVec 32) (v1858 : BitVec 32) (k1_t101 : Fin (k1_t101_loop v1856 v1858).trips) (k1_t104 : Fin (k1_t104_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t104
  let v3026 : BitVec 32 := Scalar.addi v3015 arg46
  let v3062 : Index := Scalar.indexCast v3026
  let c112_1453 : Index := 112#32
  ![v3062.toNat, 112]
def k1_off1417 (v1856 : BitVec 32) (v1858 : BitVec 32) (k1_t101 : Fin (k1_t101_loop v1856 v1858).trips) (k1_t104 : Fin (k1_t104_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t104
  let v3026 : BitVec 32 := Scalar.addi v3015 arg46
  let v3067 : Index := Scalar.indexCast v3026
  let c128_1454 : Index := 128#32
  ![v3067.toNat, 128]
def k1_off1418 (v1856 : BitVec 32) (v1858 : BitVec 32) (k1_t101 : Fin (k1_t101_loop v1856 v1858).trips) (k1_t104 : Fin (k1_t104_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t104
  let v3026 : BitVec 32 := Scalar.addi v3015 arg46
  let v3072 : Index := Scalar.indexCast v3026
  let c144_1455 : Index := 144#32
  ![v3072.toNat, 144]
def k1_off1419 (v1856 : BitVec 32) (v1858 : BitVec 32) (k1_t101 : Fin (k1_t101_loop v1856 v1858).trips) (k1_t104 : Fin (k1_t104_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t104
  let v3026 : BitVec 32 := Scalar.addi v3015 arg46
  let v3077 : Index := Scalar.indexCast v3026
  let c160_1456 : Index := 160#32
  ![v3077.toNat, 160]
def k1_off1420 (v1856 : BitVec 32) (v1858 : BitVec 32) (k1_t101 : Fin (k1_t101_loop v1856 v1858).trips) (k1_t104 : Fin (k1_t104_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t104
  let v3026 : BitVec 32 := Scalar.addi v3015 arg46
  let v3082 : Index := Scalar.indexCast v3026
  let c176_1457 : Index := 176#32
  ![v3082.toNat, 176]
def k1_off1421 (v1856 : BitVec 32) (v1858 : BitVec 32) (k1_t101 : Fin (k1_t101_loop v1856 v1858).trips) (k1_t104 : Fin (k1_t104_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t104
  let v3026 : BitVec 32 := Scalar.addi v3015 arg46
  let v3087 : Index := Scalar.indexCast v3026
  let c192_1458 : Index := 192#32
  ![v3087.toNat, 192]
def k1_off1422 (v1856 : BitVec 32) (v1858 : BitVec 32) (k1_t101 : Fin (k1_t101_loop v1856 v1858).trips) (k1_t104 : Fin (k1_t104_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t104
  let v3026 : BitVec 32 := Scalar.addi v3015 arg46
  let v3092 : Index := Scalar.indexCast v3026
  let c208_1459 : Index := 208#32
  ![v3092.toNat, 208]
def k1_off1423 (v1856 : BitVec 32) (v1858 : BitVec 32) (k1_t101 : Fin (k1_t101_loop v1856 v1858).trips) (k1_t104 : Fin (k1_t104_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t104
  let v3026 : BitVec 32 := Scalar.addi v3015 arg46
  let v3097 : Index := Scalar.indexCast v3026
  let c224_1460 : Index := 224#32
  ![v3097.toNat, 224]
def k1_off1424 (v1856 : BitVec 32) (v1858 : BitVec 32) (k1_t101 : Fin (k1_t101_loop v1856 v1858).trips) (k1_t104 : Fin (k1_t104_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t104
  let v3026 : BitVec 32 := Scalar.addi v3015 arg46
  let v3102 : Index := Scalar.indexCast v3026
  let c240_1461 : Index := 240#32
  ![v3102.toNat, 240]
@[reducible] def k1_t105_loop (v1856 : BitVec 32) (v1858 : BitVec 32) (k1_t101 : Fin (k1_t101_loop v1856 v1858).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off1425 (v1856 : BitVec 32) (v1858 : BitVec 32) (k1_t101 : Fin (k1_t101_loop v1856 v1858).trips) (k1_t105 : Fin (k1_t105_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t105
  let v3026 : BitVec 32 := Scalar.addi v3015 arg46
  let v3027 : Index := Scalar.indexCast v3026
  let c0_1446 : Index := 0#32
  ![v3027.toNat, 0]
def k1_off1426 (v1856 : BitVec 32) (v1858 : BitVec 32) (k1_t101 : Fin (k1_t101_loop v1856 v1858).trips) (k1_t105 : Fin (k1_t105_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t105
  let v3026 : BitVec 32 := Scalar.addi v3015 arg46
  let v3032 : Index := Scalar.indexCast v3026
  let c16_1447 : Index := 16#32
  ![v3032.toNat, 16]
def k1_off1427 (v1856 : BitVec 32) (v1858 : BitVec 32) (k1_t101 : Fin (k1_t101_loop v1856 v1858).trips) (k1_t105 : Fin (k1_t105_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t105
  let v3026 : BitVec 32 := Scalar.addi v3015 arg46
  let v3037 : Index := Scalar.indexCast v3026
  let c32_1448 : Index := 32#32
  ![v3037.toNat, 32]
def k1_off1428 (v1856 : BitVec 32) (v1858 : BitVec 32) (k1_t101 : Fin (k1_t101_loop v1856 v1858).trips) (k1_t105 : Fin (k1_t105_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t105
  let v3026 : BitVec 32 := Scalar.addi v3015 arg46
  let v3042 : Index := Scalar.indexCast v3026
  let c48_1449 : Index := 48#32
  ![v3042.toNat, 48]
def k1_off1429 (v1856 : BitVec 32) (v1858 : BitVec 32) (k1_t101 : Fin (k1_t101_loop v1856 v1858).trips) (k1_t105 : Fin (k1_t105_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t105
  let v3026 : BitVec 32 := Scalar.addi v3015 arg46
  let v3047 : Index := Scalar.indexCast v3026
  let c64_1450 : Index := 64#32
  ![v3047.toNat, 64]
def k1_off1430 (v1856 : BitVec 32) (v1858 : BitVec 32) (k1_t101 : Fin (k1_t101_loop v1856 v1858).trips) (k1_t105 : Fin (k1_t105_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t105
  let v3026 : BitVec 32 := Scalar.addi v3015 arg46
  let v3052 : Index := Scalar.indexCast v3026
  let c80_1451 : Index := 80#32
  ![v3052.toNat, 80]
def k1_off1431 (v1856 : BitVec 32) (v1858 : BitVec 32) (k1_t101 : Fin (k1_t101_loop v1856 v1858).trips) (k1_t105 : Fin (k1_t105_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t105
  let v3026 : BitVec 32 := Scalar.addi v3015 arg46
  let v3057 : Index := Scalar.indexCast v3026
  let c96_1452 : Index := 96#32
  ![v3057.toNat, 96]
def k1_off1432 (v1856 : BitVec 32) (v1858 : BitVec 32) (k1_t101 : Fin (k1_t101_loop v1856 v1858).trips) (k1_t105 : Fin (k1_t105_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t105
  let v3026 : BitVec 32 := Scalar.addi v3015 arg46
  let v3062 : Index := Scalar.indexCast v3026
  let c112_1453 : Index := 112#32
  ![v3062.toNat, 112]
def k1_off1433 (v1856 : BitVec 32) (v1858 : BitVec 32) (k1_t101 : Fin (k1_t101_loop v1856 v1858).trips) (k1_t105 : Fin (k1_t105_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t105
  let v3026 : BitVec 32 := Scalar.addi v3015 arg46
  let v3067 : Index := Scalar.indexCast v3026
  let c128_1454 : Index := 128#32
  ![v3067.toNat, 128]
def k1_off1434 (v1856 : BitVec 32) (v1858 : BitVec 32) (k1_t101 : Fin (k1_t101_loop v1856 v1858).trips) (k1_t105 : Fin (k1_t105_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t105
  let v3026 : BitVec 32 := Scalar.addi v3015 arg46
  let v3072 : Index := Scalar.indexCast v3026
  let c144_1455 : Index := 144#32
  ![v3072.toNat, 144]
def k1_off1435 (v1856 : BitVec 32) (v1858 : BitVec 32) (k1_t101 : Fin (k1_t101_loop v1856 v1858).trips) (k1_t105 : Fin (k1_t105_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t105
  let v3026 : BitVec 32 := Scalar.addi v3015 arg46
  let v3077 : Index := Scalar.indexCast v3026
  let c160_1456 : Index := 160#32
  ![v3077.toNat, 160]
def k1_off1436 (v1856 : BitVec 32) (v1858 : BitVec 32) (k1_t101 : Fin (k1_t101_loop v1856 v1858).trips) (k1_t105 : Fin (k1_t105_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t105
  let v3026 : BitVec 32 := Scalar.addi v3015 arg46
  let v3082 : Index := Scalar.indexCast v3026
  let c176_1457 : Index := 176#32
  ![v3082.toNat, 176]
def k1_off1437 (v1856 : BitVec 32) (v1858 : BitVec 32) (k1_t101 : Fin (k1_t101_loop v1856 v1858).trips) (k1_t105 : Fin (k1_t105_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t105
  let v3026 : BitVec 32 := Scalar.addi v3015 arg46
  let v3087 : Index := Scalar.indexCast v3026
  let c192_1458 : Index := 192#32
  ![v3087.toNat, 192]
def k1_off1438 (v1856 : BitVec 32) (v1858 : BitVec 32) (k1_t101 : Fin (k1_t101_loop v1856 v1858).trips) (k1_t105 : Fin (k1_t105_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t105
  let v3026 : BitVec 32 := Scalar.addi v3015 arg46
  let v3092 : Index := Scalar.indexCast v3026
  let c208_1459 : Index := 208#32
  ![v3092.toNat, 208]
def k1_off1439 (v1856 : BitVec 32) (v1858 : BitVec 32) (k1_t101 : Fin (k1_t101_loop v1856 v1858).trips) (k1_t105 : Fin (k1_t105_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t105
  let v3026 : BitVec 32 := Scalar.addi v3015 arg46
  let v3097 : Index := Scalar.indexCast v3026
  let c224_1460 : Index := 224#32
  ![v3097.toNat, 224]
def k1_off1440 (v1856 : BitVec 32) (v1858 : BitVec 32) (k1_t101 : Fin (k1_t101_loop v1856 v1858).trips) (k1_t105 : Fin (k1_t105_loop v1856 v1858 k1_t101).trips) : Fin 2 → Nat :=
  let c2_i32_1426 : BitVec 32 := 2#32
  let c0_i32_899 : BitVec 32 := 0#32
  let c1_i32_901 : BitVec 32 := 1#32
  let arg13 : BitVec 32 := Scf.iv c0_i32_899 c1_i32_901 k1_t101
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t105
  let v3026 : BitVec 32 := Scalar.addi v3015 arg46
  let v3102 : Index := Scalar.indexCast v3026
  let c240_1461 : Index := 240#32
  ![v3102.toNat, 240]
@[reducible] def k1_t106_loop (v1856 : BitVec 32) (v1858 : BitVec 32) : Scf.Loop 32 :=
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let v1903 : BitVec 32 := Scalar.addi c0_i32_899 v1902
  let c1_i32_902 : BitVec 32 := 1#32
  ⟨v1906, v1903, c1_i32_902⟩
def k1_off1441 (i : grid1.Coords) (v1856 : BitVec 32) (v1858 : BitVec 32) (k1_t106 : Fin (k1_t106_loop v1856 v1858).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1446 : BitVec 32 := 64#32
  let v3026 : BitVec 32 := Scalar.muli v2949 c64_i32_1446
  let v3027 : BitVec 32 := Scalar.addi v1856 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond96 (v1856 : BitVec 32) (v1858 : BitVec 32) (k1_t106 : Fin (k1_t106_loop v1856 v1858).trips) : BitVec 1 :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let v2950 : BitVec 1 := Scalar.cmpi .slt v2949 v1880
  let v2951 : BitVec 32 := Scalar.extui v2950
  let c0_i32_1409 : BitVec 32 := 0#32
  let v2952 : BitVec 1 := Scalar.cmpi .ne v2951 c0_i32_1409
  v2952

def k1_off1442 (i : grid1.Coords) (v1856 : BitVec 32) (v1858 : BitVec 32) (k1_t106 : Fin (k1_t106_loop v1856 v1858).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v1856 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond97 (v1856 : BitVec 32) (v1858 : BitVec 32) (k1_t106 : Fin (k1_t106_loop v1856 v1858).trips) : BitVec 1 :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c1_i32_1456 : BitVec 32 := 1#32
  let v3049 : BitVec 32 := Scalar.addi v2949 c1_i32_1456
  let v3050 : BitVec 1 := Scalar.cmpi .slt v3049 v1880
  let v3051 : BitVec 32 := Scalar.extui v3050
  let c0_i32_1457 : BitVec 32 := 0#32
  let v3052 : BitVec 1 := Scalar.cmpi .ne v3051 c0_i32_1457
  v3052

@[reducible] def k1_t107_loop (v1856 : BitVec 32) (v1858 : BitVec 32) (k1_t106 : Fin (k1_t106_loop v1856 v1858).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off1443 (v1856 : BitVec 32) (v1858 : BitVec 32) (k1_t106 : Fin (k1_t106_loop v1856 v1858).trips) (k1_t107 : Fin (k1_t107_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t107
  let v3026 : BitVec 32 := Scalar.addi v2976 arg46
  let v3027 : Index := Scalar.indexCast v3026
  let c0_1446 : Index := 0#32
  ![v3027.toNat, 0]
def k1_off1444 (v1856 : BitVec 32) (v1858 : BitVec 32) (k1_t106 : Fin (k1_t106_loop v1856 v1858).trips) (k1_t107 : Fin (k1_t107_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t107
  let v3026 : BitVec 32 := Scalar.addi v2976 arg46
  let v3032 : Index := Scalar.indexCast v3026
  let c16_1447 : Index := 16#32
  ![v3032.toNat, 16]
def k1_off1445 (v1856 : BitVec 32) (v1858 : BitVec 32) (k1_t106 : Fin (k1_t106_loop v1856 v1858).trips) (k1_t107 : Fin (k1_t107_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t107
  let v3026 : BitVec 32 := Scalar.addi v2976 arg46
  let v3037 : Index := Scalar.indexCast v3026
  let c32_1448 : Index := 32#32
  ![v3037.toNat, 32]
def k1_off1446 (v1856 : BitVec 32) (v1858 : BitVec 32) (k1_t106 : Fin (k1_t106_loop v1856 v1858).trips) (k1_t107 : Fin (k1_t107_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t107
  let v3026 : BitVec 32 := Scalar.addi v2976 arg46
  let v3042 : Index := Scalar.indexCast v3026
  let c48_1449 : Index := 48#32
  ![v3042.toNat, 48]
def k1_off1447 (v1856 : BitVec 32) (v1858 : BitVec 32) (k1_t106 : Fin (k1_t106_loop v1856 v1858).trips) (k1_t107 : Fin (k1_t107_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t107
  let v3026 : BitVec 32 := Scalar.addi v2976 arg46
  let v3047 : Index := Scalar.indexCast v3026
  let c64_1450 : Index := 64#32
  ![v3047.toNat, 64]
def k1_off1448 (v1856 : BitVec 32) (v1858 : BitVec 32) (k1_t106 : Fin (k1_t106_loop v1856 v1858).trips) (k1_t107 : Fin (k1_t107_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t107
  let v3026 : BitVec 32 := Scalar.addi v2976 arg46
  let v3052 : Index := Scalar.indexCast v3026
  let c80_1451 : Index := 80#32
  ![v3052.toNat, 80]
def k1_off1449 (v1856 : BitVec 32) (v1858 : BitVec 32) (k1_t106 : Fin (k1_t106_loop v1856 v1858).trips) (k1_t107 : Fin (k1_t107_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t107
  let v3026 : BitVec 32 := Scalar.addi v2976 arg46
  let v3057 : Index := Scalar.indexCast v3026
  let c96_1452 : Index := 96#32
  ![v3057.toNat, 96]
def k1_off1450 (v1856 : BitVec 32) (v1858 : BitVec 32) (k1_t106 : Fin (k1_t106_loop v1856 v1858).trips) (k1_t107 : Fin (k1_t107_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t107
  let v3026 : BitVec 32 := Scalar.addi v2976 arg46
  let v3062 : Index := Scalar.indexCast v3026
  let c112_1453 : Index := 112#32
  ![v3062.toNat, 112]
def k1_off1451 (v1856 : BitVec 32) (v1858 : BitVec 32) (k1_t106 : Fin (k1_t106_loop v1856 v1858).trips) (k1_t107 : Fin (k1_t107_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t107
  let v3026 : BitVec 32 := Scalar.addi v2976 arg46
  let v3067 : Index := Scalar.indexCast v3026
  let c128_1454 : Index := 128#32
  ![v3067.toNat, 128]
def k1_off1452 (v1856 : BitVec 32) (v1858 : BitVec 32) (k1_t106 : Fin (k1_t106_loop v1856 v1858).trips) (k1_t107 : Fin (k1_t107_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t107
  let v3026 : BitVec 32 := Scalar.addi v2976 arg46
  let v3072 : Index := Scalar.indexCast v3026
  let c144_1455 : Index := 144#32
  ![v3072.toNat, 144]
def k1_off1453 (v1856 : BitVec 32) (v1858 : BitVec 32) (k1_t106 : Fin (k1_t106_loop v1856 v1858).trips) (k1_t107 : Fin (k1_t107_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t107
  let v3026 : BitVec 32 := Scalar.addi v2976 arg46
  let v3077 : Index := Scalar.indexCast v3026
  let c160_1456 : Index := 160#32
  ![v3077.toNat, 160]
def k1_off1454 (v1856 : BitVec 32) (v1858 : BitVec 32) (k1_t106 : Fin (k1_t106_loop v1856 v1858).trips) (k1_t107 : Fin (k1_t107_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t107
  let v3026 : BitVec 32 := Scalar.addi v2976 arg46
  let v3082 : Index := Scalar.indexCast v3026
  let c176_1457 : Index := 176#32
  ![v3082.toNat, 176]
def k1_off1455 (v1856 : BitVec 32) (v1858 : BitVec 32) (k1_t106 : Fin (k1_t106_loop v1856 v1858).trips) (k1_t107 : Fin (k1_t107_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t107
  let v3026 : BitVec 32 := Scalar.addi v2976 arg46
  let v3087 : Index := Scalar.indexCast v3026
  let c192_1458 : Index := 192#32
  ![v3087.toNat, 192]
def k1_off1456 (v1856 : BitVec 32) (v1858 : BitVec 32) (k1_t106 : Fin (k1_t106_loop v1856 v1858).trips) (k1_t107 : Fin (k1_t107_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t107
  let v3026 : BitVec 32 := Scalar.addi v2976 arg46
  let v3092 : Index := Scalar.indexCast v3026
  let c208_1459 : Index := 208#32
  ![v3092.toNat, 208]
def k1_off1457 (v1856 : BitVec 32) (v1858 : BitVec 32) (k1_t106 : Fin (k1_t106_loop v1856 v1858).trips) (k1_t107 : Fin (k1_t107_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t107
  let v3026 : BitVec 32 := Scalar.addi v2976 arg46
  let v3097 : Index := Scalar.indexCast v3026
  let c224_1460 : Index := 224#32
  ![v3097.toNat, 224]
def k1_off1458 (v1856 : BitVec 32) (v1858 : BitVec 32) (k1_t106 : Fin (k1_t106_loop v1856 v1858).trips) (k1_t107 : Fin (k1_t107_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t107
  let v3026 : BitVec 32 := Scalar.addi v2976 arg46
  let v3102 : Index := Scalar.indexCast v3026
  let c240_1461 : Index := 240#32
  ![v3102.toNat, 240]
@[reducible] def k1_t108_loop (v1856 : BitVec 32) (v1858 : BitVec 32) (k1_t106 : Fin (k1_t106_loop v1856 v1858).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off1459 (v1856 : BitVec 32) (v1858 : BitVec 32) (k1_t106 : Fin (k1_t106_loop v1856 v1858).trips) (k1_t108 : Fin (k1_t108_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t108
  let v3026 : BitVec 32 := Scalar.addi v2976 arg46
  let v3027 : Index := Scalar.indexCast v3026
  let c0_1446 : Index := 0#32
  ![v3027.toNat, 0]
def k1_off1460 (v1856 : BitVec 32) (v1858 : BitVec 32) (k1_t106 : Fin (k1_t106_loop v1856 v1858).trips) (k1_t108 : Fin (k1_t108_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t108
  let v3026 : BitVec 32 := Scalar.addi v2976 arg46
  let v3032 : Index := Scalar.indexCast v3026
  let c16_1447 : Index := 16#32
  ![v3032.toNat, 16]
def k1_off1461 (v1856 : BitVec 32) (v1858 : BitVec 32) (k1_t106 : Fin (k1_t106_loop v1856 v1858).trips) (k1_t108 : Fin (k1_t108_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t108
  let v3026 : BitVec 32 := Scalar.addi v2976 arg46
  let v3037 : Index := Scalar.indexCast v3026
  let c32_1448 : Index := 32#32
  ![v3037.toNat, 32]
def k1_off1462 (v1856 : BitVec 32) (v1858 : BitVec 32) (k1_t106 : Fin (k1_t106_loop v1856 v1858).trips) (k1_t108 : Fin (k1_t108_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t108
  let v3026 : BitVec 32 := Scalar.addi v2976 arg46
  let v3042 : Index := Scalar.indexCast v3026
  let c48_1449 : Index := 48#32
  ![v3042.toNat, 48]
def k1_off1463 (v1856 : BitVec 32) (v1858 : BitVec 32) (k1_t106 : Fin (k1_t106_loop v1856 v1858).trips) (k1_t108 : Fin (k1_t108_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t108
  let v3026 : BitVec 32 := Scalar.addi v2976 arg46
  let v3047 : Index := Scalar.indexCast v3026
  let c64_1450 : Index := 64#32
  ![v3047.toNat, 64]
def k1_off1464 (v1856 : BitVec 32) (v1858 : BitVec 32) (k1_t106 : Fin (k1_t106_loop v1856 v1858).trips) (k1_t108 : Fin (k1_t108_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t108
  let v3026 : BitVec 32 := Scalar.addi v2976 arg46
  let v3052 : Index := Scalar.indexCast v3026
  let c80_1451 : Index := 80#32
  ![v3052.toNat, 80]
def k1_off1465 (v1856 : BitVec 32) (v1858 : BitVec 32) (k1_t106 : Fin (k1_t106_loop v1856 v1858).trips) (k1_t108 : Fin (k1_t108_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t108
  let v3026 : BitVec 32 := Scalar.addi v2976 arg46
  let v3057 : Index := Scalar.indexCast v3026
  let c96_1452 : Index := 96#32
  ![v3057.toNat, 96]
def k1_off1466 (v1856 : BitVec 32) (v1858 : BitVec 32) (k1_t106 : Fin (k1_t106_loop v1856 v1858).trips) (k1_t108 : Fin (k1_t108_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t108
  let v3026 : BitVec 32 := Scalar.addi v2976 arg46
  let v3062 : Index := Scalar.indexCast v3026
  let c112_1453 : Index := 112#32
  ![v3062.toNat, 112]
def k1_off1467 (v1856 : BitVec 32) (v1858 : BitVec 32) (k1_t106 : Fin (k1_t106_loop v1856 v1858).trips) (k1_t108 : Fin (k1_t108_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t108
  let v3026 : BitVec 32 := Scalar.addi v2976 arg46
  let v3067 : Index := Scalar.indexCast v3026
  let c128_1454 : Index := 128#32
  ![v3067.toNat, 128]
def k1_off1468 (v1856 : BitVec 32) (v1858 : BitVec 32) (k1_t106 : Fin (k1_t106_loop v1856 v1858).trips) (k1_t108 : Fin (k1_t108_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t108
  let v3026 : BitVec 32 := Scalar.addi v2976 arg46
  let v3072 : Index := Scalar.indexCast v3026
  let c144_1455 : Index := 144#32
  ![v3072.toNat, 144]
def k1_off1469 (v1856 : BitVec 32) (v1858 : BitVec 32) (k1_t106 : Fin (k1_t106_loop v1856 v1858).trips) (k1_t108 : Fin (k1_t108_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t108
  let v3026 : BitVec 32 := Scalar.addi v2976 arg46
  let v3077 : Index := Scalar.indexCast v3026
  let c160_1456 : Index := 160#32
  ![v3077.toNat, 160]
def k1_off1470 (v1856 : BitVec 32) (v1858 : BitVec 32) (k1_t106 : Fin (k1_t106_loop v1856 v1858).trips) (k1_t108 : Fin (k1_t108_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t108
  let v3026 : BitVec 32 := Scalar.addi v2976 arg46
  let v3082 : Index := Scalar.indexCast v3026
  let c176_1457 : Index := 176#32
  ![v3082.toNat, 176]
def k1_off1471 (v1856 : BitVec 32) (v1858 : BitVec 32) (k1_t106 : Fin (k1_t106_loop v1856 v1858).trips) (k1_t108 : Fin (k1_t108_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t108
  let v3026 : BitVec 32 := Scalar.addi v2976 arg46
  let v3087 : Index := Scalar.indexCast v3026
  let c192_1458 : Index := 192#32
  ![v3087.toNat, 192]
def k1_off1472 (v1856 : BitVec 32) (v1858 : BitVec 32) (k1_t106 : Fin (k1_t106_loop v1856 v1858).trips) (k1_t108 : Fin (k1_t108_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t108
  let v3026 : BitVec 32 := Scalar.addi v2976 arg46
  let v3092 : Index := Scalar.indexCast v3026
  let c208_1459 : Index := 208#32
  ![v3092.toNat, 208]
def k1_off1473 (v1856 : BitVec 32) (v1858 : BitVec 32) (k1_t106 : Fin (k1_t106_loop v1856 v1858).trips) (k1_t108 : Fin (k1_t108_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t108
  let v3026 : BitVec 32 := Scalar.addi v2976 arg46
  let v3097 : Index := Scalar.indexCast v3026
  let c224_1460 : Index := 224#32
  ![v3097.toNat, 224]
def k1_off1474 (v1856 : BitVec 32) (v1858 : BitVec 32) (k1_t106 : Fin (k1_t106_loop v1856 v1858).trips) (k1_t108 : Fin (k1_t108_loop v1856 v1858 k1_t106).trips) : Fin 2 → Nat :=
  let c2_i32_1408 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2949 : BitVec 32 := Scalar.muli c2_i32_1408 arg13
  let c64_i32_1410 : BitVec 32 := 64#32
  let v2953 : BitVec 32 := Scalar.muli v2949 c64_i32_1410
  let v2954 : BitVec 32 := Scalar.addi v1856 v2953
  let c64_i32_1411 : BitVec 32 := 64#32
  let v2955 : BitVec 32 := Scalar.muli v2949 c64_i32_1411
  let v2956 : BitVec 32 := Scalar.addi v1856 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v1858 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t108
  let v3026 : BitVec 32 := Scalar.addi v2976 arg46
  let v3102 : Index := Scalar.indexCast v3026
  let c240_1461 : Index := 240#32
  ![v3102.toNat, 240]
def k1_off1475 (i : grid1.Coords) (v1856 : BitVec 32) (v1858 : BitVec 32) (k1_t106 : Fin (k1_t106_loop v1856 v1858).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v1856 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond98 (v1856 : BitVec 32) (v1858 : BitVec 32) (k1_t106 : Fin (k1_t106_loop v1856 v1858).trips) : BitVec 1 :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let v2989 : BitVec 1 := Scalar.cmpi .slt v2988 v1880
  let v2990 : BitVec 32 := Scalar.extui v2989
  let c0_i32_1428 : BitVec 32 := 0#32
  let v2991 : BitVec 1 := Scalar.cmpi .ne v2990 c0_i32_1428
  v2991

def k1_off1476 (i : grid1.Coords) (v1856 : BitVec 32) (v1858 : BitVec 32) (k1_t106 : Fin (k1_t106_loop v1856 v1858).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v1856 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond99 (v1856 : BitVec 32) (v1858 : BitVec 32) (k1_t106 : Fin (k1_t106_loop v1856 v1858).trips) : BitVec 1 :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v3050 : BitVec 1 := Scalar.cmpi .slt v3049 v1880
  let v3051 : BitVec 32 := Scalar.extui v3050
  let c0_i32_1457 : BitVec 32 := 0#32
  let v3052 : BitVec 1 := Scalar.cmpi .ne v3051 c0_i32_1457
  v3052

@[reducible] def k1_t109_loop (v1856 : BitVec 32) (v1858 : BitVec 32) (k1_t106 : Fin (k1_t106_loop v1856 v1858).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off1477 (v1856 : BitVec 32) (v1858 : BitVec 32) (k1_t106 : Fin (k1_t106_loop v1856 v1858).trips) (k1_t109 : Fin (k1_t109_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t109
  let v3026 : BitVec 32 := Scalar.addi v3015 arg46
  let v3027 : Index := Scalar.indexCast v3026
  let c0_1446 : Index := 0#32
  ![v3027.toNat, 0]
def k1_off1478 (v1856 : BitVec 32) (v1858 : BitVec 32) (k1_t106 : Fin (k1_t106_loop v1856 v1858).trips) (k1_t109 : Fin (k1_t109_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t109
  let v3026 : BitVec 32 := Scalar.addi v3015 arg46
  let v3032 : Index := Scalar.indexCast v3026
  let c16_1447 : Index := 16#32
  ![v3032.toNat, 16]
def k1_off1479 (v1856 : BitVec 32) (v1858 : BitVec 32) (k1_t106 : Fin (k1_t106_loop v1856 v1858).trips) (k1_t109 : Fin (k1_t109_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t109
  let v3026 : BitVec 32 := Scalar.addi v3015 arg46
  let v3037 : Index := Scalar.indexCast v3026
  let c32_1448 : Index := 32#32
  ![v3037.toNat, 32]
def k1_off1480 (v1856 : BitVec 32) (v1858 : BitVec 32) (k1_t106 : Fin (k1_t106_loop v1856 v1858).trips) (k1_t109 : Fin (k1_t109_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t109
  let v3026 : BitVec 32 := Scalar.addi v3015 arg46
  let v3042 : Index := Scalar.indexCast v3026
  let c48_1449 : Index := 48#32
  ![v3042.toNat, 48]
def k1_off1481 (v1856 : BitVec 32) (v1858 : BitVec 32) (k1_t106 : Fin (k1_t106_loop v1856 v1858).trips) (k1_t109 : Fin (k1_t109_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t109
  let v3026 : BitVec 32 := Scalar.addi v3015 arg46
  let v3047 : Index := Scalar.indexCast v3026
  let c64_1450 : Index := 64#32
  ![v3047.toNat, 64]
def k1_off1482 (v1856 : BitVec 32) (v1858 : BitVec 32) (k1_t106 : Fin (k1_t106_loop v1856 v1858).trips) (k1_t109 : Fin (k1_t109_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t109
  let v3026 : BitVec 32 := Scalar.addi v3015 arg46
  let v3052 : Index := Scalar.indexCast v3026
  let c80_1451 : Index := 80#32
  ![v3052.toNat, 80]
def k1_off1483 (v1856 : BitVec 32) (v1858 : BitVec 32) (k1_t106 : Fin (k1_t106_loop v1856 v1858).trips) (k1_t109 : Fin (k1_t109_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t109
  let v3026 : BitVec 32 := Scalar.addi v3015 arg46
  let v3057 : Index := Scalar.indexCast v3026
  let c96_1452 : Index := 96#32
  ![v3057.toNat, 96]
def k1_off1484 (v1856 : BitVec 32) (v1858 : BitVec 32) (k1_t106 : Fin (k1_t106_loop v1856 v1858).trips) (k1_t109 : Fin (k1_t109_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t109
  let v3026 : BitVec 32 := Scalar.addi v3015 arg46
  let v3062 : Index := Scalar.indexCast v3026
  let c112_1453 : Index := 112#32
  ![v3062.toNat, 112]
def k1_off1485 (v1856 : BitVec 32) (v1858 : BitVec 32) (k1_t106 : Fin (k1_t106_loop v1856 v1858).trips) (k1_t109 : Fin (k1_t109_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t109
  let v3026 : BitVec 32 := Scalar.addi v3015 arg46
  let v3067 : Index := Scalar.indexCast v3026
  let c128_1454 : Index := 128#32
  ![v3067.toNat, 128]
def k1_off1486 (v1856 : BitVec 32) (v1858 : BitVec 32) (k1_t106 : Fin (k1_t106_loop v1856 v1858).trips) (k1_t109 : Fin (k1_t109_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t109
  let v3026 : BitVec 32 := Scalar.addi v3015 arg46
  let v3072 : Index := Scalar.indexCast v3026
  let c144_1455 : Index := 144#32
  ![v3072.toNat, 144]
def k1_off1487 (v1856 : BitVec 32) (v1858 : BitVec 32) (k1_t106 : Fin (k1_t106_loop v1856 v1858).trips) (k1_t109 : Fin (k1_t109_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t109
  let v3026 : BitVec 32 := Scalar.addi v3015 arg46
  let v3077 : Index := Scalar.indexCast v3026
  let c160_1456 : Index := 160#32
  ![v3077.toNat, 160]
def k1_off1488 (v1856 : BitVec 32) (v1858 : BitVec 32) (k1_t106 : Fin (k1_t106_loop v1856 v1858).trips) (k1_t109 : Fin (k1_t109_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t109
  let v3026 : BitVec 32 := Scalar.addi v3015 arg46
  let v3082 : Index := Scalar.indexCast v3026
  let c176_1457 : Index := 176#32
  ![v3082.toNat, 176]
def k1_off1489 (v1856 : BitVec 32) (v1858 : BitVec 32) (k1_t106 : Fin (k1_t106_loop v1856 v1858).trips) (k1_t109 : Fin (k1_t109_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t109
  let v3026 : BitVec 32 := Scalar.addi v3015 arg46
  let v3087 : Index := Scalar.indexCast v3026
  let c192_1458 : Index := 192#32
  ![v3087.toNat, 192]
def k1_off1490 (v1856 : BitVec 32) (v1858 : BitVec 32) (k1_t106 : Fin (k1_t106_loop v1856 v1858).trips) (k1_t109 : Fin (k1_t109_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t109
  let v3026 : BitVec 32 := Scalar.addi v3015 arg46
  let v3092 : Index := Scalar.indexCast v3026
  let c208_1459 : Index := 208#32
  ![v3092.toNat, 208]
def k1_off1491 (v1856 : BitVec 32) (v1858 : BitVec 32) (k1_t106 : Fin (k1_t106_loop v1856 v1858).trips) (k1_t109 : Fin (k1_t109_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t109
  let v3026 : BitVec 32 := Scalar.addi v3015 arg46
  let v3097 : Index := Scalar.indexCast v3026
  let c224_1460 : Index := 224#32
  ![v3097.toNat, 224]
def k1_off1492 (v1856 : BitVec 32) (v1858 : BitVec 32) (k1_t106 : Fin (k1_t106_loop v1856 v1858).trips) (k1_t109 : Fin (k1_t109_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t109
  let v3026 : BitVec 32 := Scalar.addi v3015 arg46
  let v3102 : Index := Scalar.indexCast v3026
  let c240_1461 : Index := 240#32
  ![v3102.toNat, 240]
@[reducible] def k1_t110_loop (v1856 : BitVec 32) (v1858 : BitVec 32) (k1_t106 : Fin (k1_t106_loop v1856 v1858).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off1493 (v1856 : BitVec 32) (v1858 : BitVec 32) (k1_t106 : Fin (k1_t106_loop v1856 v1858).trips) (k1_t110 : Fin (k1_t110_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t110
  let v3026 : BitVec 32 := Scalar.addi v3015 arg46
  let v3027 : Index := Scalar.indexCast v3026
  let c0_1446 : Index := 0#32
  ![v3027.toNat, 0]
def k1_off1494 (v1856 : BitVec 32) (v1858 : BitVec 32) (k1_t106 : Fin (k1_t106_loop v1856 v1858).trips) (k1_t110 : Fin (k1_t110_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t110
  let v3026 : BitVec 32 := Scalar.addi v3015 arg46
  let v3032 : Index := Scalar.indexCast v3026
  let c16_1447 : Index := 16#32
  ![v3032.toNat, 16]
def k1_off1495 (v1856 : BitVec 32) (v1858 : BitVec 32) (k1_t106 : Fin (k1_t106_loop v1856 v1858).trips) (k1_t110 : Fin (k1_t110_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t110
  let v3026 : BitVec 32 := Scalar.addi v3015 arg46
  let v3037 : Index := Scalar.indexCast v3026
  let c32_1448 : Index := 32#32
  ![v3037.toNat, 32]
def k1_off1496 (v1856 : BitVec 32) (v1858 : BitVec 32) (k1_t106 : Fin (k1_t106_loop v1856 v1858).trips) (k1_t110 : Fin (k1_t110_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t110
  let v3026 : BitVec 32 := Scalar.addi v3015 arg46
  let v3042 : Index := Scalar.indexCast v3026
  let c48_1449 : Index := 48#32
  ![v3042.toNat, 48]
def k1_off1497 (v1856 : BitVec 32) (v1858 : BitVec 32) (k1_t106 : Fin (k1_t106_loop v1856 v1858).trips) (k1_t110 : Fin (k1_t110_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t110
  let v3026 : BitVec 32 := Scalar.addi v3015 arg46
  let v3047 : Index := Scalar.indexCast v3026
  let c64_1450 : Index := 64#32
  ![v3047.toNat, 64]
def k1_off1498 (v1856 : BitVec 32) (v1858 : BitVec 32) (k1_t106 : Fin (k1_t106_loop v1856 v1858).trips) (k1_t110 : Fin (k1_t110_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t110
  let v3026 : BitVec 32 := Scalar.addi v3015 arg46
  let v3052 : Index := Scalar.indexCast v3026
  let c80_1451 : Index := 80#32
  ![v3052.toNat, 80]
def k1_off1499 (v1856 : BitVec 32) (v1858 : BitVec 32) (k1_t106 : Fin (k1_t106_loop v1856 v1858).trips) (k1_t110 : Fin (k1_t110_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t110
  let v3026 : BitVec 32 := Scalar.addi v3015 arg46
  let v3057 : Index := Scalar.indexCast v3026
  let c96_1452 : Index := 96#32
  ![v3057.toNat, 96]
def k1_off1500 (v1856 : BitVec 32) (v1858 : BitVec 32) (k1_t106 : Fin (k1_t106_loop v1856 v1858).trips) (k1_t110 : Fin (k1_t110_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t110
  let v3026 : BitVec 32 := Scalar.addi v3015 arg46
  let v3062 : Index := Scalar.indexCast v3026
  let c112_1453 : Index := 112#32
  ![v3062.toNat, 112]
def k1_off1501 (v1856 : BitVec 32) (v1858 : BitVec 32) (k1_t106 : Fin (k1_t106_loop v1856 v1858).trips) (k1_t110 : Fin (k1_t110_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t110
  let v3026 : BitVec 32 := Scalar.addi v3015 arg46
  let v3067 : Index := Scalar.indexCast v3026
  let c128_1454 : Index := 128#32
  ![v3067.toNat, 128]
def k1_off1502 (v1856 : BitVec 32) (v1858 : BitVec 32) (k1_t106 : Fin (k1_t106_loop v1856 v1858).trips) (k1_t110 : Fin (k1_t110_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t110
  let v3026 : BitVec 32 := Scalar.addi v3015 arg46
  let v3072 : Index := Scalar.indexCast v3026
  let c144_1455 : Index := 144#32
  ![v3072.toNat, 144]
def k1_off1503 (v1856 : BitVec 32) (v1858 : BitVec 32) (k1_t106 : Fin (k1_t106_loop v1856 v1858).trips) (k1_t110 : Fin (k1_t110_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t110
  let v3026 : BitVec 32 := Scalar.addi v3015 arg46
  let v3077 : Index := Scalar.indexCast v3026
  let c160_1456 : Index := 160#32
  ![v3077.toNat, 160]
def k1_off1504 (v1856 : BitVec 32) (v1858 : BitVec 32) (k1_t106 : Fin (k1_t106_loop v1856 v1858).trips) (k1_t110 : Fin (k1_t110_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t110
  let v3026 : BitVec 32 := Scalar.addi v3015 arg46
  let v3082 : Index := Scalar.indexCast v3026
  let c176_1457 : Index := 176#32
  ![v3082.toNat, 176]
def k1_off1505 (v1856 : BitVec 32) (v1858 : BitVec 32) (k1_t106 : Fin (k1_t106_loop v1856 v1858).trips) (k1_t110 : Fin (k1_t110_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t110
  let v3026 : BitVec 32 := Scalar.addi v3015 arg46
  let v3087 : Index := Scalar.indexCast v3026
  let c192_1458 : Index := 192#32
  ![v3087.toNat, 192]
def k1_off1506 (v1856 : BitVec 32) (v1858 : BitVec 32) (k1_t106 : Fin (k1_t106_loop v1856 v1858).trips) (k1_t110 : Fin (k1_t110_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t110
  let v3026 : BitVec 32 := Scalar.addi v3015 arg46
  let v3092 : Index := Scalar.indexCast v3026
  let c208_1459 : Index := 208#32
  ![v3092.toNat, 208]
def k1_off1507 (v1856 : BitVec 32) (v1858 : BitVec 32) (k1_t106 : Fin (k1_t106_loop v1856 v1858).trips) (k1_t110 : Fin (k1_t110_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t110
  let v3026 : BitVec 32 := Scalar.addi v3015 arg46
  let v3097 : Index := Scalar.indexCast v3026
  let c224_1460 : Index := 224#32
  ![v3097.toNat, 224]
def k1_off1508 (v1856 : BitVec 32) (v1858 : BitVec 32) (k1_t106 : Fin (k1_t106_loop v1856 v1858).trips) (k1_t110 : Fin (k1_t110_loop v1856 v1858 k1_t106).trips) : Fin 2 → Nat :=
  let c2_i32_1426 : BitVec 32 := 2#32
  let c0_i32_899 : BitVec 32 := 0#32
  let v1861 : BitVec 32 := Scalar.subi v1858 v1856
  let c64_i32_880 : BitVec 32 := 64#32
  let v1862 : BitVec 32 := Scalar.addi v1861 c64_i32_880
  let c1_i32_881 : BitVec 32 := 1#32
  let v1863 : BitVec 32 := Scalar.subi v1862 c1_i32_881
  let c0_i32_883 : BitVec 32 := 0#32
  let v1865 : BitVec 1 := Scalar.cmpi .sgt v1863 c0_i32_883
  let v1866 : BitVec 32 := Scalar.extui v1865
  let c0_i32_884 : BitVec 32 := 0#32
  let v1867 : BitVec 1 := Scalar.cmpi .slt v1863 c0_i32_884
  let v1868 : BitVec 32 := Scalar.extui v1867
  let v1869 : BitVec 32 := Scalar.subi v1866 v1868
  let c64_i32_882 : BitVec 32 := 64#32
  let c0_i32_885 : BitVec 32 := 0#32
  let v1870 : BitVec 1 := Scalar.cmpi .sgt c64_i32_882 c0_i32_885
  let v1871 : BitVec 32 := Scalar.extui v1870
  let c0_i32_886 : BitVec 32 := 0#32
  let v1872 : BitVec 1 := Scalar.cmpi .slt c64_i32_882 c0_i32_886
  let v1873 : BitVec 32 := Scalar.extui v1872
  let v1874 : BitVec 32 := Scalar.subi v1871 v1873
  let v1875 : BitVec 1 := Scalar.cmpi .ne v1869 v1874
  let v1876 : BitVec 32 := Scalar.remsi v1863 c64_i32_882
  let c0_i32_887 : BitVec 32 := 0#32
  let v1877 : BitVec 1 := Scalar.cmpi .ne v1876 c0_i32_887
  let v1878 : BitVec 1 := Scalar.andi v1875 v1877
  let v1864 : BitVec 32 := Scalar.divsi v1863 c64_i32_882
  let c1_i32_888 : BitVec 32 := 1#32
  let v1879 : BitVec 32 := Scalar.subi v1864 c1_i32_888
  let v1880 : BitVec 32 := Scalar.select v1878 v1879 v1864
  let c1_i32_891 : BitVec 32 := 1#32
  let v1884 : BitVec 32 := Scalar.addi v1880 c1_i32_891
  let c0_i32_893 : BitVec 32 := 0#32
  let v1886 : BitVec 1 := Scalar.cmpi .sgt v1884 c0_i32_893
  let v1887 : BitVec 32 := Scalar.extui v1886
  let c0_i32_894 : BitVec 32 := 0#32
  let v1888 : BitVec 1 := Scalar.cmpi .slt v1884 c0_i32_894
  let v1889 : BitVec 32 := Scalar.extui v1888
  let v1890 : BitVec 32 := Scalar.subi v1887 v1889
  let c2_i32_892 : BitVec 32 := 2#32
  let c0_i32_895 : BitVec 32 := 0#32
  let v1891 : BitVec 1 := Scalar.cmpi .sgt c2_i32_892 c0_i32_895
  let v1892 : BitVec 32 := Scalar.extui v1891
  let c0_i32_896 : BitVec 32 := 0#32
  let v1893 : BitVec 1 := Scalar.cmpi .slt c2_i32_892 c0_i32_896
  let v1894 : BitVec 32 := Scalar.extui v1893
  let v1895 : BitVec 32 := Scalar.subi v1892 v1894
  let v1896 : BitVec 1 := Scalar.cmpi .ne v1890 v1895
  let v1897 : BitVec 32 := Scalar.remsi v1884 c2_i32_892
  let c0_i32_897 : BitVec 32 := 0#32
  let v1898 : BitVec 1 := Scalar.cmpi .ne v1897 c0_i32_897
  let v1899 : BitVec 1 := Scalar.andi v1896 v1898
  let v1885 : BitVec 32 := Scalar.divsi v1884 c2_i32_892
  let c1_i32_898 : BitVec 32 := 1#32
  let v1900 : BitVec 32 := Scalar.subi v1885 c1_i32_898
  let v1901 : BitVec 32 := Scalar.select v1899 v1900 v1885
  let v1902 : BitVec 32 := Scalar.subi v1901 c0_i32_899
  let c1_i32_900 : BitVec 32 := 1#32
  let v1904 : BitVec 32 := Scalar.divsi v1902 c1_i32_900
  let v1905 : BitVec 32 := Scalar.muli v1904 c1_i32_900
  let v1906 : BitVec 32 := Scalar.addi c0_i32_899 v1905
  let c1_i32_902 : BitVec 32 := 1#32
  let arg13 : BitVec 32 := Scf.iv v1906 c1_i32_902 k1_t106
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v1856 v2992
  let c64_i32_1430 : BitVec 32 := 64#32
  let v2994 : BitVec 32 := Scalar.muli v2988 c64_i32_1430
  let v2995 : BitVec 32 := Scalar.addi v1856 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v1858 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t110
  let v3026 : BitVec 32 := Scalar.addi v3015 arg46
  let v3102 : Index := Scalar.indexCast v3026
  let c240_1461 : Index := 240#32
  ![v3102.toNat, 240]

def k1_chk11_0 (i : grid1.Coords) (v1856 : BitVec 32) (v1858 : BitVec 32) : Prop :=
  (∀ (k1_h91 : k1_cond91 v1856 v1858 = 1#1), ∀ a, (k1_off1372 i v1856) a + S72x256.size a ≤ S100000x512.size a) ∧
  ((k1_t101_loop v1856 v1858).OK) ∧
  (∀ k1_t101 : Fin (k1_t101_loop v1856 v1858).trips, ∀ (k1_h92 : k1_cond92 v1856 v1858 k1_t101 = 1#1), ∀ a, (k1_off1373 i v1856 v1858 k1_t101) a + S72x256.size a ≤ S100000x512.size a) ∧
  (∀ k1_t101 : Fin (k1_t101_loop v1856 v1858).trips, ∀ (k1_h92 : k1_cond92 v1856 v1858 k1_t101 = 1#1), ∀ (k1_h93 : k1_cond93 v1856 v1858 k1_t101 = 1#1), ∀ a, (k1_off1374 i v1856 v1858 k1_t101) a + S72x256.size a ≤ S100000x512.size a) ∧
  (∀ k1_t101 : Fin (k1_t101_loop v1856 v1858).trips, (k1_t102_loop v1856 v1858 k1_t101).OK) ∧
  (∀ (k1_t101 : Fin (k1_t101_loop v1856 v1858).trips) (k1_t102 : Fin (k1_t102_loop v1856 v1858 k1_t101).trips), ∀ a, (k1_off1375 v1856 v1858 k1_t101 k1_t102) a + S1x16.size a ≤ S72x256.size a) ∧
  (∀ (k1_t101 : Fin (k1_t101_loop v1856 v1858).trips) (k1_t102 : Fin (k1_t102_loop v1856 v1858 k1_t101).trips), ∀ a, (k1_off1376 v1856 v1858 k1_t101 k1_t102) a + S1x16.size a ≤ S72x256.size a) ∧
  (∀ (k1_t101 : Fin (k1_t101_loop v1856 v1858).trips) (k1_t102 : Fin (k1_t102_loop v1856 v1858 k1_t101).trips), ∀ a, (k1_off1377 v1856 v1858 k1_t101 k1_t102) a + S1x16.size a ≤ S72x256.size a) ∧
  (∀ (k1_t101 : Fin (k1_t101_loop v1856 v1858).trips) (k1_t102 : Fin (k1_t102_loop v1856 v1858 k1_t101).trips), ∀ a, (k1_off1378 v1856 v1858 k1_t101 k1_t102) a + S1x16.size a ≤ S72x256.size a) ∧
  (∀ (k1_t101 : Fin (k1_t101_loop v1856 v1858).trips) (k1_t102 : Fin (k1_t102_loop v1856 v1858 k1_t101).trips), ∀ a, (k1_off1379 v1856 v1858 k1_t101 k1_t102) a + S1x16.size a ≤ S72x256.size a) ∧
  (∀ (k1_t101 : Fin (k1_t101_loop v1856 v1858).trips) (k1_t102 : Fin (k1_t102_loop v1856 v1858 k1_t101).trips), ∀ a, (k1_off1380 v1856 v1858 k1_t101 k1_t102) a + S1x16.size a ≤ S72x256.size a) ∧
  (∀ (k1_t101 : Fin (k1_t101_loop v1856 v1858).trips) (k1_t102 : Fin (k1_t102_loop v1856 v1858 k1_t101).trips), ∀ a, (k1_off1381 v1856 v1858 k1_t101 k1_t102) a + S1x16.size a ≤ S72x256.size a) ∧
  (∀ (k1_t101 : Fin (k1_t101_loop v1856 v1858).trips) (k1_t102 : Fin (k1_t102_loop v1856 v1858 k1_t101).trips), ∀ a, (k1_off1382 v1856 v1858 k1_t101 k1_t102) a + S1x16.size a ≤ S72x256.size a) ∧
  (∀ (k1_t101 : Fin (k1_t101_loop v1856 v1858).trips) (k1_t102 : Fin (k1_t102_loop v1856 v1858 k1_t101).trips), ∀ a, (k1_off1383 v1856 v1858 k1_t101 k1_t102) a + S1x16.size a ≤ S72x256.size a) ∧
  (∀ (k1_t101 : Fin (k1_t101_loop v1856 v1858).trips) (k1_t102 : Fin (k1_t102_loop v1856 v1858 k1_t101).trips), ∀ a, (k1_off1384 v1856 v1858 k1_t101 k1_t102) a + S1x16.size a ≤ S72x256.size a) ∧
  (∀ (k1_t101 : Fin (k1_t101_loop v1856 v1858).trips) (k1_t102 : Fin (k1_t102_loop v1856 v1858 k1_t101).trips), ∀ a, (k1_off1385 v1856 v1858 k1_t101 k1_t102) a + S1x16.size a ≤ S72x256.size a) ∧
  (∀ (k1_t101 : Fin (k1_t101_loop v1856 v1858).trips) (k1_t102 : Fin (k1_t102_loop v1856 v1858 k1_t101).trips), ∀ a, (k1_off1386 v1856 v1858 k1_t101 k1_t102) a + S1x16.size a ≤ S72x256.size a) ∧
  (∀ (k1_t101 : Fin (k1_t101_loop v1856 v1858).trips) (k1_t102 : Fin (k1_t102_loop v1856 v1858 k1_t101).trips), ∀ a, (k1_off1387 v1856 v1858 k1_t101 k1_t102) a + S1x16.size a ≤ S72x256.size a) ∧
  (∀ (k1_t101 : Fin (k1_t101_loop v1856 v1858).trips) (k1_t102 : Fin (k1_t102_loop v1856 v1858 k1_t101).trips), ∀ a, (k1_off1388 v1856 v1858 k1_t101 k1_t102) a + S1x16.size a ≤ S72x256.size a) ∧
  (∀ (k1_t101 : Fin (k1_t101_loop v1856 v1858).trips) (k1_t102 : Fin (k1_t102_loop v1856 v1858 k1_t101).trips), ∀ a, (k1_off1389 v1856 v1858 k1_t101 k1_t102) a + S1x16.size a ≤ S72x256.size a) ∧
  (∀ (k1_t101 : Fin (k1_t101_loop v1856 v1858).trips) (k1_t102 : Fin (k1_t102_loop v1856 v1858 k1_t101).trips), ∀ a, (k1_off1390 v1856 v1858 k1_t101 k1_t102) a + S1x16.size a ≤ S72x256.size a) ∧
  (∀ k1_t101 : Fin (k1_t101_loop v1856 v1858).trips, (k1_t103_loop v1856 v1858 k1_t101).OK) ∧
  (∀ (k1_t101 : Fin (k1_t101_loop v1856 v1858).trips) (k1_t103 : Fin (k1_t103_loop v1856 v1858 k1_t101).trips), ∀ a, (k1_off1391 v1856 v1858 k1_t101 k1_t103) a + S1x16.size a ≤ S72x256.size a) ∧
  (∀ (k1_t101 : Fin (k1_t101_loop v1856 v1858).trips) (k1_t103 : Fin (k1_t103_loop v1856 v1858 k1_t101).trips), ∀ a, (k1_off1392 v1856 v1858 k1_t101 k1_t103) a + S1x16.size a ≤ S72x256.size a) ∧
  (∀ (k1_t101 : Fin (k1_t101_loop v1856 v1858).trips) (k1_t103 : Fin (k1_t103_loop v1856 v1858 k1_t101).trips), ∀ a, (k1_off1393 v1856 v1858 k1_t101 k1_t103) a + S1x16.size a ≤ S72x256.size a) ∧
  (∀ (k1_t101 : Fin (k1_t101_loop v1856 v1858).trips) (k1_t103 : Fin (k1_t103_loop v1856 v1858 k1_t101).trips), ∀ a, (k1_off1394 v1856 v1858 k1_t101 k1_t103) a + S1x16.size a ≤ S72x256.size a) ∧
  (∀ (k1_t101 : Fin (k1_t101_loop v1856 v1858).trips) (k1_t103 : Fin (k1_t103_loop v1856 v1858 k1_t101).trips), ∀ a, (k1_off1395 v1856 v1858 k1_t101 k1_t103) a + S1x16.size a ≤ S72x256.size a) ∧
  (∀ (k1_t101 : Fin (k1_t101_loop v1856 v1858).trips) (k1_t103 : Fin (k1_t103_loop v1856 v1858 k1_t101).trips), ∀ a, (k1_off1396 v1856 v1858 k1_t101 k1_t103) a + S1x16.size a ≤ S72x256.size a) ∧
  (∀ (k1_t101 : Fin (k1_t101_loop v1856 v1858).trips) (k1_t103 : Fin (k1_t103_loop v1856 v1858 k1_t101).trips), ∀ a, (k1_off1397 v1856 v1858 k1_t101 k1_t103) a + S1x16.size a ≤ S72x256.size a) ∧
  (∀ (k1_t101 : Fin (k1_t101_loop v1856 v1858).trips) (k1_t103 : Fin (k1_t103_loop v1856 v1858 k1_t101).trips), ∀ a, (k1_off1398 v1856 v1858 k1_t101 k1_t103) a + S1x16.size a ≤ S72x256.size a) ∧
  (∀ (k1_t101 : Fin (k1_t101_loop v1856 v1858).trips) (k1_t103 : Fin (k1_t103_loop v1856 v1858 k1_t101).trips), ∀ a, (k1_off1399 v1856 v1858 k1_t101 k1_t103) a + S1x16.size a ≤ S72x256.size a) ∧
  (∀ (k1_t101 : Fin (k1_t101_loop v1856 v1858).trips) (k1_t103 : Fin (k1_t103_loop v1856 v1858 k1_t101).trips), ∀ a, (k1_off1400 v1856 v1858 k1_t101 k1_t103) a + S1x16.size a ≤ S72x256.size a)
def k1_chk11_1 (i : grid1.Coords) (v1856 : BitVec 32) (v1858 : BitVec 32) : Prop :=
  (∀ (k1_t101 : Fin (k1_t101_loop v1856 v1858).trips) (k1_t103 : Fin (k1_t103_loop v1856 v1858 k1_t101).trips), ∀ a, (k1_off1401 v1856 v1858 k1_t101 k1_t103) a + S1x16.size a ≤ S72x256.size a) ∧
  (∀ (k1_t101 : Fin (k1_t101_loop v1856 v1858).trips) (k1_t103 : Fin (k1_t103_loop v1856 v1858 k1_t101).trips), ∀ a, (k1_off1402 v1856 v1858 k1_t101 k1_t103) a + S1x16.size a ≤ S72x256.size a) ∧
  (∀ (k1_t101 : Fin (k1_t101_loop v1856 v1858).trips) (k1_t103 : Fin (k1_t103_loop v1856 v1858 k1_t101).trips), ∀ a, (k1_off1403 v1856 v1858 k1_t101 k1_t103) a + S1x16.size a ≤ S72x256.size a) ∧
  (∀ (k1_t101 : Fin (k1_t101_loop v1856 v1858).trips) (k1_t103 : Fin (k1_t103_loop v1856 v1858 k1_t101).trips), ∀ a, (k1_off1404 v1856 v1858 k1_t101 k1_t103) a + S1x16.size a ≤ S72x256.size a) ∧
  (∀ (k1_t101 : Fin (k1_t101_loop v1856 v1858).trips) (k1_t103 : Fin (k1_t103_loop v1856 v1858 k1_t101).trips), ∀ a, (k1_off1405 v1856 v1858 k1_t101 k1_t103) a + S1x16.size a ≤ S72x256.size a) ∧
  (∀ (k1_t101 : Fin (k1_t101_loop v1856 v1858).trips) (k1_t103 : Fin (k1_t103_loop v1856 v1858 k1_t101).trips), ∀ a, (k1_off1406 v1856 v1858 k1_t101 k1_t103) a + S1x16.size a ≤ S72x256.size a) ∧
  (∀ k1_t101 : Fin (k1_t101_loop v1856 v1858).trips, ∀ (k1_h94 : k1_cond94 v1856 v1858 k1_t101 = 1#1), ∀ a, (k1_off1407 i v1856 v1858 k1_t101) a + S72x256.size a ≤ S100000x512.size a) ∧
  (∀ k1_t101 : Fin (k1_t101_loop v1856 v1858).trips, ∀ (k1_h94 : k1_cond94 v1856 v1858 k1_t101 = 1#1), ∀ (k1_h95 : k1_cond95 v1856 v1858 k1_t101 = 1#1), ∀ a, (k1_off1408 i v1856 v1858 k1_t101) a + S72x256.size a ≤ S100000x512.size a) ∧
  (∀ k1_t101 : Fin (k1_t101_loop v1856 v1858).trips, (k1_t104_loop v1856 v1858 k1_t101).OK) ∧
  (∀ (k1_t101 : Fin (k1_t101_loop v1856 v1858).trips) (k1_t104 : Fin (k1_t104_loop v1856 v1858 k1_t101).trips), ∀ a, (k1_off1409 v1856 v1858 k1_t101 k1_t104) a + S1x16.size a ≤ S72x256.size a) ∧
  (∀ (k1_t101 : Fin (k1_t101_loop v1856 v1858).trips) (k1_t104 : Fin (k1_t104_loop v1856 v1858 k1_t101).trips), ∀ a, (k1_off1410 v1856 v1858 k1_t101 k1_t104) a + S1x16.size a ≤ S72x256.size a) ∧
  (∀ (k1_t101 : Fin (k1_t101_loop v1856 v1858).trips) (k1_t104 : Fin (k1_t104_loop v1856 v1858 k1_t101).trips), ∀ a, (k1_off1411 v1856 v1858 k1_t101 k1_t104) a + S1x16.size a ≤ S72x256.size a) ∧
  (∀ (k1_t101 : Fin (k1_t101_loop v1856 v1858).trips) (k1_t104 : Fin (k1_t104_loop v1856 v1858 k1_t101).trips), ∀ a, (k1_off1412 v1856 v1858 k1_t101 k1_t104) a + S1x16.size a ≤ S72x256.size a) ∧
  (∀ (k1_t101 : Fin (k1_t101_loop v1856 v1858).trips) (k1_t104 : Fin (k1_t104_loop v1856 v1858 k1_t101).trips), ∀ a, (k1_off1413 v1856 v1858 k1_t101 k1_t104) a + S1x16.size a ≤ S72x256.size a) ∧
  (∀ (k1_t101 : Fin (k1_t101_loop v1856 v1858).trips) (k1_t104 : Fin (k1_t104_loop v1856 v1858 k1_t101).trips), ∀ a, (k1_off1414 v1856 v1858 k1_t101 k1_t104) a + S1x16.size a ≤ S72x256.size a) ∧
  (∀ (k1_t101 : Fin (k1_t101_loop v1856 v1858).trips) (k1_t104 : Fin (k1_t104_loop v1856 v1858 k1_t101).trips), ∀ a, (k1_off1415 v1856 v1858 k1_t101 k1_t104) a + S1x16.size a ≤ S72x256.size a) ∧
  (∀ (k1_t101 : Fin (k1_t101_loop v1856 v1858).trips) (k1_t104 : Fin (k1_t104_loop v1856 v1858 k1_t101).trips), ∀ a, (k1_off1416 v1856 v1858 k1_t101 k1_t104) a + S1x16.size a ≤ S72x256.size a) ∧
  (∀ (k1_t101 : Fin (k1_t101_loop v1856 v1858).trips) (k1_t104 : Fin (k1_t104_loop v1856 v1858 k1_t101).trips), ∀ a, (k1_off1417 v1856 v1858 k1_t101 k1_t104) a + S1x16.size a ≤ S72x256.size a) ∧
  (∀ (k1_t101 : Fin (k1_t101_loop v1856 v1858).trips) (k1_t104 : Fin (k1_t104_loop v1856 v1858 k1_t101).trips), ∀ a, (k1_off1418 v1856 v1858 k1_t101 k1_t104) a + S1x16.size a ≤ S72x256.size a) ∧
  (∀ (k1_t101 : Fin (k1_t101_loop v1856 v1858).trips) (k1_t104 : Fin (k1_t104_loop v1856 v1858 k1_t101).trips), ∀ a, (k1_off1419 v1856 v1858 k1_t101 k1_t104) a + S1x16.size a ≤ S72x256.size a) ∧
  (∀ (k1_t101 : Fin (k1_t101_loop v1856 v1858).trips) (k1_t104 : Fin (k1_t104_loop v1856 v1858 k1_t101).trips), ∀ a, (k1_off1420 v1856 v1858 k1_t101 k1_t104) a + S1x16.size a ≤ S72x256.size a) ∧
  (∀ (k1_t101 : Fin (k1_t101_loop v1856 v1858).trips) (k1_t104 : Fin (k1_t104_loop v1856 v1858 k1_t101).trips), ∀ a, (k1_off1421 v1856 v1858 k1_t101 k1_t104) a + S1x16.size a ≤ S72x256.size a) ∧
  (∀ (k1_t101 : Fin (k1_t101_loop v1856 v1858).trips) (k1_t104 : Fin (k1_t104_loop v1856 v1858 k1_t101).trips), ∀ a, (k1_off1422 v1856 v1858 k1_t101 k1_t104) a + S1x16.size a ≤ S72x256.size a) ∧
  (∀ (k1_t101 : Fin (k1_t101_loop v1856 v1858).trips) (k1_t104 : Fin (k1_t104_loop v1856 v1858 k1_t101).trips), ∀ a, (k1_off1423 v1856 v1858 k1_t101 k1_t104) a + S1x16.size a ≤ S72x256.size a) ∧
  (∀ (k1_t101 : Fin (k1_t101_loop v1856 v1858).trips) (k1_t104 : Fin (k1_t104_loop v1856 v1858 k1_t101).trips), ∀ a, (k1_off1424 v1856 v1858 k1_t101 k1_t104) a + S1x16.size a ≤ S72x256.size a) ∧
  (∀ k1_t101 : Fin (k1_t101_loop v1856 v1858).trips, (k1_t105_loop v1856 v1858 k1_t101).OK) ∧
  (∀ (k1_t101 : Fin (k1_t101_loop v1856 v1858).trips) (k1_t105 : Fin (k1_t105_loop v1856 v1858 k1_t101).trips), ∀ a, (k1_off1425 v1856 v1858 k1_t101 k1_t105) a + S1x16.size a ≤ S72x256.size a) ∧
  (∀ (k1_t101 : Fin (k1_t101_loop v1856 v1858).trips) (k1_t105 : Fin (k1_t105_loop v1856 v1858 k1_t101).trips), ∀ a, (k1_off1426 v1856 v1858 k1_t101 k1_t105) a + S1x16.size a ≤ S72x256.size a) ∧
  (∀ (k1_t101 : Fin (k1_t101_loop v1856 v1858).trips) (k1_t105 : Fin (k1_t105_loop v1856 v1858 k1_t101).trips), ∀ a, (k1_off1427 v1856 v1858 k1_t101 k1_t105) a + S1x16.size a ≤ S72x256.size a) ∧
  (∀ (k1_t101 : Fin (k1_t101_loop v1856 v1858).trips) (k1_t105 : Fin (k1_t105_loop v1856 v1858 k1_t101).trips), ∀ a, (k1_off1428 v1856 v1858 k1_t101 k1_t105) a + S1x16.size a ≤ S72x256.size a) ∧
  (∀ (k1_t101 : Fin (k1_t101_loop v1856 v1858).trips) (k1_t105 : Fin (k1_t105_loop v1856 v1858 k1_t101).trips), ∀ a, (k1_off1429 v1856 v1858 k1_t101 k1_t105) a + S1x16.size a ≤ S72x256.size a) ∧
  (∀ (k1_t101 : Fin (k1_t101_loop v1856 v1858).trips) (k1_t105 : Fin (k1_t105_loop v1856 v1858 k1_t101).trips), ∀ a, (k1_off1430 v1856 v1858 k1_t101 k1_t105) a + S1x16.size a ≤ S72x256.size a)
def k1_chk11_2 (i : grid1.Coords) (v1856 : BitVec 32) (v1858 : BitVec 32) : Prop :=
  (∀ (k1_t101 : Fin (k1_t101_loop v1856 v1858).trips) (k1_t105 : Fin (k1_t105_loop v1856 v1858 k1_t101).trips), ∀ a, (k1_off1431 v1856 v1858 k1_t101 k1_t105) a + S1x16.size a ≤ S72x256.size a) ∧
  (∀ (k1_t101 : Fin (k1_t101_loop v1856 v1858).trips) (k1_t105 : Fin (k1_t105_loop v1856 v1858 k1_t101).trips), ∀ a, (k1_off1432 v1856 v1858 k1_t101 k1_t105) a + S1x16.size a ≤ S72x256.size a) ∧
  (∀ (k1_t101 : Fin (k1_t101_loop v1856 v1858).trips) (k1_t105 : Fin (k1_t105_loop v1856 v1858 k1_t101).trips), ∀ a, (k1_off1433 v1856 v1858 k1_t101 k1_t105) a + S1x16.size a ≤ S72x256.size a) ∧
  (∀ (k1_t101 : Fin (k1_t101_loop v1856 v1858).trips) (k1_t105 : Fin (k1_t105_loop v1856 v1858 k1_t101).trips), ∀ a, (k1_off1434 v1856 v1858 k1_t101 k1_t105) a + S1x16.size a ≤ S72x256.size a) ∧
  (∀ (k1_t101 : Fin (k1_t101_loop v1856 v1858).trips) (k1_t105 : Fin (k1_t105_loop v1856 v1858 k1_t101).trips), ∀ a, (k1_off1435 v1856 v1858 k1_t101 k1_t105) a + S1x16.size a ≤ S72x256.size a) ∧
  (∀ (k1_t101 : Fin (k1_t101_loop v1856 v1858).trips) (k1_t105 : Fin (k1_t105_loop v1856 v1858 k1_t101).trips), ∀ a, (k1_off1436 v1856 v1858 k1_t101 k1_t105) a + S1x16.size a ≤ S72x256.size a) ∧
  (∀ (k1_t101 : Fin (k1_t101_loop v1856 v1858).trips) (k1_t105 : Fin (k1_t105_loop v1856 v1858 k1_t101).trips), ∀ a, (k1_off1437 v1856 v1858 k1_t101 k1_t105) a + S1x16.size a ≤ S72x256.size a) ∧
  (∀ (k1_t101 : Fin (k1_t101_loop v1856 v1858).trips) (k1_t105 : Fin (k1_t105_loop v1856 v1858 k1_t101).trips), ∀ a, (k1_off1438 v1856 v1858 k1_t101 k1_t105) a + S1x16.size a ≤ S72x256.size a) ∧
  (∀ (k1_t101 : Fin (k1_t101_loop v1856 v1858).trips) (k1_t105 : Fin (k1_t105_loop v1856 v1858 k1_t101).trips), ∀ a, (k1_off1439 v1856 v1858 k1_t101 k1_t105) a + S1x16.size a ≤ S72x256.size a) ∧
  (∀ (k1_t101 : Fin (k1_t101_loop v1856 v1858).trips) (k1_t105 : Fin (k1_t105_loop v1856 v1858 k1_t101).trips), ∀ a, (k1_off1440 v1856 v1858 k1_t101 k1_t105) a + S1x16.size a ≤ S72x256.size a) ∧
  ((k1_t106_loop v1856 v1858).OK) ∧
  (∀ k1_t106 : Fin (k1_t106_loop v1856 v1858).trips, ∀ (k1_h96 : k1_cond96 v1856 v1858 k1_t106 = 1#1), ∀ a, (k1_off1441 i v1856 v1858 k1_t106) a + S72x256.size a ≤ S100000x512.size a) ∧
  (∀ k1_t106 : Fin (k1_t106_loop v1856 v1858).trips, ∀ (k1_h96 : k1_cond96 v1856 v1858 k1_t106 = 1#1), ∀ (k1_h97 : k1_cond97 v1856 v1858 k1_t106 = 1#1), ∀ a, (k1_off1442 i v1856 v1858 k1_t106) a + S72x256.size a ≤ S100000x512.size a) ∧
  (∀ k1_t106 : Fin (k1_t106_loop v1856 v1858).trips, (k1_t107_loop v1856 v1858 k1_t106).OK) ∧
  (∀ (k1_t106 : Fin (k1_t106_loop v1856 v1858).trips) (k1_t107 : Fin (k1_t107_loop v1856 v1858 k1_t106).trips), ∀ a, (k1_off1443 v1856 v1858 k1_t106 k1_t107) a + S1x16.size a ≤ S72x256.size a) ∧
  (∀ (k1_t106 : Fin (k1_t106_loop v1856 v1858).trips) (k1_t107 : Fin (k1_t107_loop v1856 v1858 k1_t106).trips), ∀ a, (k1_off1444 v1856 v1858 k1_t106 k1_t107) a + S1x16.size a ≤ S72x256.size a) ∧
  (∀ (k1_t106 : Fin (k1_t106_loop v1856 v1858).trips) (k1_t107 : Fin (k1_t107_loop v1856 v1858 k1_t106).trips), ∀ a, (k1_off1445 v1856 v1858 k1_t106 k1_t107) a + S1x16.size a ≤ S72x256.size a) ∧
  (∀ (k1_t106 : Fin (k1_t106_loop v1856 v1858).trips) (k1_t107 : Fin (k1_t107_loop v1856 v1858 k1_t106).trips), ∀ a, (k1_off1446 v1856 v1858 k1_t106 k1_t107) a + S1x16.size a ≤ S72x256.size a) ∧
  (∀ (k1_t106 : Fin (k1_t106_loop v1856 v1858).trips) (k1_t107 : Fin (k1_t107_loop v1856 v1858 k1_t106).trips), ∀ a, (k1_off1447 v1856 v1858 k1_t106 k1_t107) a + S1x16.size a ≤ S72x256.size a) ∧
  (∀ (k1_t106 : Fin (k1_t106_loop v1856 v1858).trips) (k1_t107 : Fin (k1_t107_loop v1856 v1858 k1_t106).trips), ∀ a, (k1_off1448 v1856 v1858 k1_t106 k1_t107) a + S1x16.size a ≤ S72x256.size a) ∧
  (∀ (k1_t106 : Fin (k1_t106_loop v1856 v1858).trips) (k1_t107 : Fin (k1_t107_loop v1856 v1858 k1_t106).trips), ∀ a, (k1_off1449 v1856 v1858 k1_t106 k1_t107) a + S1x16.size a ≤ S72x256.size a) ∧
  (∀ (k1_t106 : Fin (k1_t106_loop v1856 v1858).trips) (k1_t107 : Fin (k1_t107_loop v1856 v1858 k1_t106).trips), ∀ a, (k1_off1450 v1856 v1858 k1_t106 k1_t107) a + S1x16.size a ≤ S72x256.size a) ∧
  (∀ (k1_t106 : Fin (k1_t106_loop v1856 v1858).trips) (k1_t107 : Fin (k1_t107_loop v1856 v1858 k1_t106).trips), ∀ a, (k1_off1451 v1856 v1858 k1_t106 k1_t107) a + S1x16.size a ≤ S72x256.size a) ∧
  (∀ (k1_t106 : Fin (k1_t106_loop v1856 v1858).trips) (k1_t107 : Fin (k1_t107_loop v1856 v1858 k1_t106).trips), ∀ a, (k1_off1452 v1856 v1858 k1_t106 k1_t107) a + S1x16.size a ≤ S72x256.size a) ∧
  (∀ (k1_t106 : Fin (k1_t106_loop v1856 v1858).trips) (k1_t107 : Fin (k1_t107_loop v1856 v1858 k1_t106).trips), ∀ a, (k1_off1453 v1856 v1858 k1_t106 k1_t107) a + S1x16.size a ≤ S72x256.size a) ∧
  (∀ (k1_t106 : Fin (k1_t106_loop v1856 v1858).trips) (k1_t107 : Fin (k1_t107_loop v1856 v1858 k1_t106).trips), ∀ a, (k1_off1454 v1856 v1858 k1_t106 k1_t107) a + S1x16.size a ≤ S72x256.size a) ∧
  (∀ (k1_t106 : Fin (k1_t106_loop v1856 v1858).trips) (k1_t107 : Fin (k1_t107_loop v1856 v1858 k1_t106).trips), ∀ a, (k1_off1455 v1856 v1858 k1_t106 k1_t107) a + S1x16.size a ≤ S72x256.size a) ∧
  (∀ (k1_t106 : Fin (k1_t106_loop v1856 v1858).trips) (k1_t107 : Fin (k1_t107_loop v1856 v1858 k1_t106).trips), ∀ a, (k1_off1456 v1856 v1858 k1_t106 k1_t107) a + S1x16.size a ≤ S72x256.size a) ∧
  (∀ (k1_t106 : Fin (k1_t106_loop v1856 v1858).trips) (k1_t107 : Fin (k1_t107_loop v1856 v1858 k1_t106).trips), ∀ a, (k1_off1457 v1856 v1858 k1_t106 k1_t107) a + S1x16.size a ≤ S72x256.size a) ∧
  (∀ (k1_t106 : Fin (k1_t106_loop v1856 v1858).trips) (k1_t107 : Fin (k1_t107_loop v1856 v1858 k1_t106).trips), ∀ a, (k1_off1458 v1856 v1858 k1_t106 k1_t107) a + S1x16.size a ≤ S72x256.size a) ∧
  (∀ k1_t106 : Fin (k1_t106_loop v1856 v1858).trips, (k1_t108_loop v1856 v1858 k1_t106).OK) ∧
  (∀ (k1_t106 : Fin (k1_t106_loop v1856 v1858).trips) (k1_t108 : Fin (k1_t108_loop v1856 v1858 k1_t106).trips), ∀ a, (k1_off1459 v1856 v1858 k1_t106 k1_t108) a + S1x16.size a ≤ S72x256.size a)
def k1_chk11_3 (i : grid1.Coords) (v1856 : BitVec 32) (v1858 : BitVec 32) : Prop :=
  (∀ (k1_t106 : Fin (k1_t106_loop v1856 v1858).trips) (k1_t108 : Fin (k1_t108_loop v1856 v1858 k1_t106).trips), ∀ a, (k1_off1460 v1856 v1858 k1_t106 k1_t108) a + S1x16.size a ≤ S72x256.size a) ∧
  (∀ (k1_t106 : Fin (k1_t106_loop v1856 v1858).trips) (k1_t108 : Fin (k1_t108_loop v1856 v1858 k1_t106).trips), ∀ a, (k1_off1461 v1856 v1858 k1_t106 k1_t108) a + S1x16.size a ≤ S72x256.size a) ∧
  (∀ (k1_t106 : Fin (k1_t106_loop v1856 v1858).trips) (k1_t108 : Fin (k1_t108_loop v1856 v1858 k1_t106).trips), ∀ a, (k1_off1462 v1856 v1858 k1_t106 k1_t108) a + S1x16.size a ≤ S72x256.size a) ∧
  (∀ (k1_t106 : Fin (k1_t106_loop v1856 v1858).trips) (k1_t108 : Fin (k1_t108_loop v1856 v1858 k1_t106).trips), ∀ a, (k1_off1463 v1856 v1858 k1_t106 k1_t108) a + S1x16.size a ≤ S72x256.size a) ∧
  (∀ (k1_t106 : Fin (k1_t106_loop v1856 v1858).trips) (k1_t108 : Fin (k1_t108_loop v1856 v1858 k1_t106).trips), ∀ a, (k1_off1464 v1856 v1858 k1_t106 k1_t108) a + S1x16.size a ≤ S72x256.size a) ∧
  (∀ (k1_t106 : Fin (k1_t106_loop v1856 v1858).trips) (k1_t108 : Fin (k1_t108_loop v1856 v1858 k1_t106).trips), ∀ a, (k1_off1465 v1856 v1858 k1_t106 k1_t108) a + S1x16.size a ≤ S72x256.size a) ∧
  (∀ (k1_t106 : Fin (k1_t106_loop v1856 v1858).trips) (k1_t108 : Fin (k1_t108_loop v1856 v1858 k1_t106).trips), ∀ a, (k1_off1466 v1856 v1858 k1_t106 k1_t108) a + S1x16.size a ≤ S72x256.size a) ∧
  (∀ (k1_t106 : Fin (k1_t106_loop v1856 v1858).trips) (k1_t108 : Fin (k1_t108_loop v1856 v1858 k1_t106).trips), ∀ a, (k1_off1467 v1856 v1858 k1_t106 k1_t108) a + S1x16.size a ≤ S72x256.size a) ∧
  (∀ (k1_t106 : Fin (k1_t106_loop v1856 v1858).trips) (k1_t108 : Fin (k1_t108_loop v1856 v1858 k1_t106).trips), ∀ a, (k1_off1468 v1856 v1858 k1_t106 k1_t108) a + S1x16.size a ≤ S72x256.size a) ∧
  (∀ (k1_t106 : Fin (k1_t106_loop v1856 v1858).trips) (k1_t108 : Fin (k1_t108_loop v1856 v1858 k1_t106).trips), ∀ a, (k1_off1469 v1856 v1858 k1_t106 k1_t108) a + S1x16.size a ≤ S72x256.size a) ∧
  (∀ (k1_t106 : Fin (k1_t106_loop v1856 v1858).trips) (k1_t108 : Fin (k1_t108_loop v1856 v1858 k1_t106).trips), ∀ a, (k1_off1470 v1856 v1858 k1_t106 k1_t108) a + S1x16.size a ≤ S72x256.size a) ∧
  (∀ (k1_t106 : Fin (k1_t106_loop v1856 v1858).trips) (k1_t108 : Fin (k1_t108_loop v1856 v1858 k1_t106).trips), ∀ a, (k1_off1471 v1856 v1858 k1_t106 k1_t108) a + S1x16.size a ≤ S72x256.size a) ∧
  (∀ (k1_t106 : Fin (k1_t106_loop v1856 v1858).trips) (k1_t108 : Fin (k1_t108_loop v1856 v1858 k1_t106).trips), ∀ a, (k1_off1472 v1856 v1858 k1_t106 k1_t108) a + S1x16.size a ≤ S72x256.size a) ∧
  (∀ (k1_t106 : Fin (k1_t106_loop v1856 v1858).trips) (k1_t108 : Fin (k1_t108_loop v1856 v1858 k1_t106).trips), ∀ a, (k1_off1473 v1856 v1858 k1_t106 k1_t108) a + S1x16.size a ≤ S72x256.size a) ∧
  (∀ (k1_t106 : Fin (k1_t106_loop v1856 v1858).trips) (k1_t108 : Fin (k1_t108_loop v1856 v1858 k1_t106).trips), ∀ a, (k1_off1474 v1856 v1858 k1_t106 k1_t108) a + S1x16.size a ≤ S72x256.size a) ∧
  (∀ k1_t106 : Fin (k1_t106_loop v1856 v1858).trips, ∀ (k1_h98 : k1_cond98 v1856 v1858 k1_t106 = 1#1), ∀ a, (k1_off1475 i v1856 v1858 k1_t106) a + S72x256.size a ≤ S100000x512.size a) ∧
  (∀ k1_t106 : Fin (k1_t106_loop v1856 v1858).trips, ∀ (k1_h98 : k1_cond98 v1856 v1858 k1_t106 = 1#1), ∀ (k1_h99 : k1_cond99 v1856 v1858 k1_t106 = 1#1), ∀ a, (k1_off1476 i v1856 v1858 k1_t106) a + S72x256.size a ≤ S100000x512.size a) ∧
  (∀ k1_t106 : Fin (k1_t106_loop v1856 v1858).trips, (k1_t109_loop v1856 v1858 k1_t106).OK) ∧
  (∀ (k1_t106 : Fin (k1_t106_loop v1856 v1858).trips) (k1_t109 : Fin (k1_t109_loop v1856 v1858 k1_t106).trips), ∀ a, (k1_off1477 v1856 v1858 k1_t106 k1_t109) a + S1x16.size a ≤ S72x256.size a) ∧
  (∀ (k1_t106 : Fin (k1_t106_loop v1856 v1858).trips) (k1_t109 : Fin (k1_t109_loop v1856 v1858 k1_t106).trips), ∀ a, (k1_off1478 v1856 v1858 k1_t106 k1_t109) a + S1x16.size a ≤ S72x256.size a) ∧
  (∀ (k1_t106 : Fin (k1_t106_loop v1856 v1858).trips) (k1_t109 : Fin (k1_t109_loop v1856 v1858 k1_t106).trips), ∀ a, (k1_off1479 v1856 v1858 k1_t106 k1_t109) a + S1x16.size a ≤ S72x256.size a) ∧
  (∀ (k1_t106 : Fin (k1_t106_loop v1856 v1858).trips) (k1_t109 : Fin (k1_t109_loop v1856 v1858 k1_t106).trips), ∀ a, (k1_off1480 v1856 v1858 k1_t106 k1_t109) a + S1x16.size a ≤ S72x256.size a) ∧
  (∀ (k1_t106 : Fin (k1_t106_loop v1856 v1858).trips) (k1_t109 : Fin (k1_t109_loop v1856 v1858 k1_t106).trips), ∀ a, (k1_off1481 v1856 v1858 k1_t106 k1_t109) a + S1x16.size a ≤ S72x256.size a) ∧
  (∀ (k1_t106 : Fin (k1_t106_loop v1856 v1858).trips) (k1_t109 : Fin (k1_t109_loop v1856 v1858 k1_t106).trips), ∀ a, (k1_off1482 v1856 v1858 k1_t106 k1_t109) a + S1x16.size a ≤ S72x256.size a) ∧
  (∀ (k1_t106 : Fin (k1_t106_loop v1856 v1858).trips) (k1_t109 : Fin (k1_t109_loop v1856 v1858 k1_t106).trips), ∀ a, (k1_off1483 v1856 v1858 k1_t106 k1_t109) a + S1x16.size a ≤ S72x256.size a) ∧
  (∀ (k1_t106 : Fin (k1_t106_loop v1856 v1858).trips) (k1_t109 : Fin (k1_t109_loop v1856 v1858 k1_t106).trips), ∀ a, (k1_off1484 v1856 v1858 k1_t106 k1_t109) a + S1x16.size a ≤ S72x256.size a) ∧
  (∀ (k1_t106 : Fin (k1_t106_loop v1856 v1858).trips) (k1_t109 : Fin (k1_t109_loop v1856 v1858 k1_t106).trips), ∀ a, (k1_off1485 v1856 v1858 k1_t106 k1_t109) a + S1x16.size a ≤ S72x256.size a) ∧
  (∀ (k1_t106 : Fin (k1_t106_loop v1856 v1858).trips) (k1_t109 : Fin (k1_t109_loop v1856 v1858 k1_t106).trips), ∀ a, (k1_off1486 v1856 v1858 k1_t106 k1_t109) a + S1x16.size a ≤ S72x256.size a) ∧
  (∀ (k1_t106 : Fin (k1_t106_loop v1856 v1858).trips) (k1_t109 : Fin (k1_t109_loop v1856 v1858 k1_t106).trips), ∀ a, (k1_off1487 v1856 v1858 k1_t106 k1_t109) a + S1x16.size a ≤ S72x256.size a) ∧
  (∀ (k1_t106 : Fin (k1_t106_loop v1856 v1858).trips) (k1_t109 : Fin (k1_t109_loop v1856 v1858 k1_t106).trips), ∀ a, (k1_off1488 v1856 v1858 k1_t106 k1_t109) a + S1x16.size a ≤ S72x256.size a) ∧
  (∀ (k1_t106 : Fin (k1_t106_loop v1856 v1858).trips) (k1_t109 : Fin (k1_t109_loop v1856 v1858 k1_t106).trips), ∀ a, (k1_off1489 v1856 v1858 k1_t106 k1_t109) a + S1x16.size a ≤ S72x256.size a) ∧
  (∀ (k1_t106 : Fin (k1_t106_loop v1856 v1858).trips) (k1_t109 : Fin (k1_t109_loop v1856 v1858 k1_t106).trips), ∀ a, (k1_off1490 v1856 v1858 k1_t106 k1_t109) a + S1x16.size a ≤ S72x256.size a)
def k1_chk11_4 (i : grid1.Coords) (v1856 : BitVec 32) (v1858 : BitVec 32) : Prop :=
  (∀ (k1_t106 : Fin (k1_t106_loop v1856 v1858).trips) (k1_t109 : Fin (k1_t109_loop v1856 v1858 k1_t106).trips), ∀ a, (k1_off1491 v1856 v1858 k1_t106 k1_t109) a + S1x16.size a ≤ S72x256.size a) ∧
  (∀ (k1_t106 : Fin (k1_t106_loop v1856 v1858).trips) (k1_t109 : Fin (k1_t109_loop v1856 v1858 k1_t106).trips), ∀ a, (k1_off1492 v1856 v1858 k1_t106 k1_t109) a + S1x16.size a ≤ S72x256.size a) ∧
  (∀ k1_t106 : Fin (k1_t106_loop v1856 v1858).trips, (k1_t110_loop v1856 v1858 k1_t106).OK) ∧
  (∀ (k1_t106 : Fin (k1_t106_loop v1856 v1858).trips) (k1_t110 : Fin (k1_t110_loop v1856 v1858 k1_t106).trips), ∀ a, (k1_off1493 v1856 v1858 k1_t106 k1_t110) a + S1x16.size a ≤ S72x256.size a) ∧
  (∀ (k1_t106 : Fin (k1_t106_loop v1856 v1858).trips) (k1_t110 : Fin (k1_t110_loop v1856 v1858 k1_t106).trips), ∀ a, (k1_off1494 v1856 v1858 k1_t106 k1_t110) a + S1x16.size a ≤ S72x256.size a) ∧
  (∀ (k1_t106 : Fin (k1_t106_loop v1856 v1858).trips) (k1_t110 : Fin (k1_t110_loop v1856 v1858 k1_t106).trips), ∀ a, (k1_off1495 v1856 v1858 k1_t106 k1_t110) a + S1x16.size a ≤ S72x256.size a) ∧
  (∀ (k1_t106 : Fin (k1_t106_loop v1856 v1858).trips) (k1_t110 : Fin (k1_t110_loop v1856 v1858 k1_t106).trips), ∀ a, (k1_off1496 v1856 v1858 k1_t106 k1_t110) a + S1x16.size a ≤ S72x256.size a) ∧
  (∀ (k1_t106 : Fin (k1_t106_loop v1856 v1858).trips) (k1_t110 : Fin (k1_t110_loop v1856 v1858 k1_t106).trips), ∀ a, (k1_off1497 v1856 v1858 k1_t106 k1_t110) a + S1x16.size a ≤ S72x256.size a) ∧
  (∀ (k1_t106 : Fin (k1_t106_loop v1856 v1858).trips) (k1_t110 : Fin (k1_t110_loop v1856 v1858 k1_t106).trips), ∀ a, (k1_off1498 v1856 v1858 k1_t106 k1_t110) a + S1x16.size a ≤ S72x256.size a) ∧
  (∀ (k1_t106 : Fin (k1_t106_loop v1856 v1858).trips) (k1_t110 : Fin (k1_t110_loop v1856 v1858 k1_t106).trips), ∀ a, (k1_off1499 v1856 v1858 k1_t106 k1_t110) a + S1x16.size a ≤ S72x256.size a) ∧
  (∀ (k1_t106 : Fin (k1_t106_loop v1856 v1858).trips) (k1_t110 : Fin (k1_t110_loop v1856 v1858 k1_t106).trips), ∀ a, (k1_off1500 v1856 v1858 k1_t106 k1_t110) a + S1x16.size a ≤ S72x256.size a) ∧
  (∀ (k1_t106 : Fin (k1_t106_loop v1856 v1858).trips) (k1_t110 : Fin (k1_t110_loop v1856 v1858 k1_t106).trips), ∀ a, (k1_off1501 v1856 v1858 k1_t106 k1_t110) a + S1x16.size a ≤ S72x256.size a) ∧
  (∀ (k1_t106 : Fin (k1_t106_loop v1856 v1858).trips) (k1_t110 : Fin (k1_t110_loop v1856 v1858 k1_t106).trips), ∀ a, (k1_off1502 v1856 v1858 k1_t106 k1_t110) a + S1x16.size a ≤ S72x256.size a) ∧
  (∀ (k1_t106 : Fin (k1_t106_loop v1856 v1858).trips) (k1_t110 : Fin (k1_t110_loop v1856 v1858 k1_t106).trips), ∀ a, (k1_off1503 v1856 v1858 k1_t106 k1_t110) a + S1x16.size a ≤ S72x256.size a) ∧
  (∀ (k1_t106 : Fin (k1_t106_loop v1856 v1858).trips) (k1_t110 : Fin (k1_t110_loop v1856 v1858 k1_t106).trips), ∀ a, (k1_off1504 v1856 v1858 k1_t106 k1_t110) a + S1x16.size a ≤ S72x256.size a) ∧
  (∀ (k1_t106 : Fin (k1_t106_loop v1856 v1858).trips) (k1_t110 : Fin (k1_t110_loop v1856 v1858 k1_t106).trips), ∀ a, (k1_off1505 v1856 v1858 k1_t106 k1_t110) a + S1x16.size a ≤ S72x256.size a) ∧
  (∀ (k1_t106 : Fin (k1_t106_loop v1856 v1858).trips) (k1_t110 : Fin (k1_t110_loop v1856 v1858 k1_t106).trips), ∀ a, (k1_off1506 v1856 v1858 k1_t106 k1_t110) a + S1x16.size a ≤ S72x256.size a) ∧
  (∀ (k1_t106 : Fin (k1_t106_loop v1856 v1858).trips) (k1_t110 : Fin (k1_t110_loop v1856 v1858 k1_t106).trips), ∀ a, (k1_off1507 v1856 v1858 k1_t106 k1_t110) a + S1x16.size a ≤ S72x256.size a) ∧
  (∀ (k1_t106 : Fin (k1_t106_loop v1856 v1858).trips) (k1_t110 : Fin (k1_t110_loop v1856 v1858 k1_t106).trips), ∀ a, (k1_off1508 v1856 v1858 k1_t106 k1_t110) a + S1x16.size a ≤ S72x256.size a)
def k1_chk11 (i : grid1.Coords) (v1856 : BitVec 32) (v1858 : BitVec 32) : Prop :=
  k1_chk11_0 i v1856 v1858 ∧
  k1_chk11_1 i v1856 v1858 ∧
  k1_chk11_2 i v1856 v1858 ∧
  k1_chk11_3 i v1856 v1858 ∧
  k1_chk11_4 i v1856 v1858
theorem k1_off1372_inb : ∀ (i : grid1.Coords) (v1856 : BitVec 32) (v1858 : BitVec 32) (k1_hw11 : k1_chk11 i v1856 v1858), ∀ (k1_h91 : k1_cond91 v1856 v1858 = 1#1), ∀ a, (k1_off1372 i v1856) a + S72x256.size a ≤ S100000x512.size a := fun i v1856 v1858 k1_hw11 k1_h91 => k1_hw11.1.1 k1_h91
theorem k1_t101_ok : ∀ (i : grid1.Coords) (v1856 : BitVec 32) (v1858 : BitVec 32) (k1_hw11 : k1_chk11 i v1856 v1858), (k1_t101_loop v1856 v1858).OK := fun i v1856 v1858 k1_hw11 => k1_hw11.1.2.1
theorem k1_off1373_inb : ∀ (i : grid1.Coords) (v1856 : BitVec 32) (v1858 : BitVec 32) (k1_hw11 : k1_chk11 i v1856 v1858) (k1_t101 : Fin (k1_t101_loop v1856 v1858).trips), ∀ (k1_h92 : k1_cond92 v1856 v1858 k1_t101 = 1#1), ∀ a, (k1_off1373 i v1856 v1858 k1_t101) a + S72x256.size a ≤ S100000x512.size a := fun i v1856 v1858 k1_hw11 k1_t101 k1_h92 => k1_hw11.1.2.2.1 k1_t101 k1_h92
theorem k1_off1374_inb : ∀ (i : grid1.Coords) (v1856 : BitVec 32) (v1858 : BitVec 32) (k1_hw11 : k1_chk11 i v1856 v1858) (k1_t101 : Fin (k1_t101_loop v1856 v1858).trips), ∀ (k1_h92 : k1_cond92 v1856 v1858 k1_t101 = 1#1), ∀ (k1_h93 : k1_cond93 v1856 v1858 k1_t101 = 1#1), ∀ a, (k1_off1374 i v1856 v1858 k1_t101) a + S72x256.size a ≤ S100000x512.size a := fun i v1856 v1858 k1_hw11 k1_t101 k1_h92 k1_h93 => k1_hw11.1.2.2.2.1 k1_t101 k1_h92 k1_h93
theorem k1_t102_ok : ∀ (i : grid1.Coords) (v1856 : BitVec 32) (v1858 : BitVec 32) (k1_hw11 : k1_chk11 i v1856 v1858) (k1_t101 : Fin (k1_t101_loop v1856 v1858).trips), (k1_t102_loop v1856 v1858 k1_t101).OK := fun i v1856 v1858 k1_hw11 k1_t101 => k1_hw11.1.2.2.2.2.1 k1_t101
theorem k1_off1375_inb : ∀ (i : grid1.Coords) (v1856 : BitVec 32) (v1858 : BitVec 32) (k1_hw11 : k1_chk11 i v1856 v1858) (k1_t101 : Fin (k1_t101_loop v1856 v1858).trips) (k1_t102 : Fin (k1_t102_loop v1856 v1858 k1_t101).trips), ∀ a, (k1_off1375 v1856 v1858 k1_t101 k1_t102) a + S1x16.size a ≤ S72x256.size a := fun i v1856 v1858 k1_hw11 k1_t101 k1_t102 => k1_hw11.1.2.2.2.2.2.1 k1_t101 k1_t102
theorem k1_off1376_inb : ∀ (i : grid1.Coords) (v1856 : BitVec 32) (v1858 : BitVec 32) (k1_hw11 : k1_chk11 i v1856 v1858) (k1_t101 : Fin (k1_t101_loop v1856 v1858).trips) (k1_t102 : Fin (k1_t102_loop v1856 v1858 k1_t101).trips), ∀ a, (k1_off1376 v1856 v1858 k1_t101 k1_t102) a + S1x16.size a ≤ S72x256.size a := fun i v1856 v1858 k1_hw11 k1_t101 k1_t102 => k1_hw11.1.2.2.2.2.2.2.1 k1_t101 k1_t102
theorem k1_off1377_inb : ∀ (i : grid1.Coords) (v1856 : BitVec 32) (v1858 : BitVec 32) (k1_hw11 : k1_chk11 i v1856 v1858) (k1_t101 : Fin (k1_t101_loop v1856 v1858).trips) (k1_t102 : Fin (k1_t102_loop v1856 v1858 k1_t101).trips), ∀ a, (k1_off1377 v1856 v1858 k1_t101 k1_t102) a + S1x16.size a ≤ S72x256.size a := fun i v1856 v1858 k1_hw11 k1_t101 k1_t102 => k1_hw11.1.2.2.2.2.2.2.2.1 k1_t101 k1_t102
theorem k1_off1378_inb : ∀ (i : grid1.Coords) (v1856 : BitVec 32) (v1858 : BitVec 32) (k1_hw11 : k1_chk11 i v1856 v1858) (k1_t101 : Fin (k1_t101_loop v1856 v1858).trips) (k1_t102 : Fin (k1_t102_loop v1856 v1858 k1_t101).trips), ∀ a, (k1_off1378 v1856 v1858 k1_t101 k1_t102) a + S1x16.size a ≤ S72x256.size a := fun i v1856 v1858 k1_hw11 k1_t101 k1_t102 => k1_hw11.1.2.2.2.2.2.2.2.2.1 k1_t101 k1_t102
theorem k1_off1379_inb : ∀ (i : grid1.Coords) (v1856 : BitVec 32) (v1858 : BitVec 32) (k1_hw11 : k1_chk11 i v1856 v1858) (k1_t101 : Fin (k1_t101_loop v1856 v1858).trips) (k1_t102 : Fin (k1_t102_loop v1856 v1858 k1_t101).trips), ∀ a, (k1_off1379 v1856 v1858 k1_t101 k1_t102) a + S1x16.size a ≤ S72x256.size a := fun i v1856 v1858 k1_hw11 k1_t101 k1_t102 => k1_hw11.1.2.2.2.2.2.2.2.2.2.1 k1_t101 k1_t102
theorem k1_off1380_inb : ∀ (i : grid1.Coords) (v1856 : BitVec 32) (v1858 : BitVec 32) (k1_hw11 : k1_chk11 i v1856 v1858) (k1_t101 : Fin (k1_t101_loop v1856 v1858).trips) (k1_t102 : Fin (k1_t102_loop v1856 v1858 k1_t101).trips), ∀ a, (k1_off1380 v1856 v1858 k1_t101 k1_t102) a + S1x16.size a ≤ S72x256.size a := fun i v1856 v1858 k1_hw11 k1_t101 k1_t102 => k1_hw11.1.2.2.2.2.2.2.2.2.2.2.1 k1_t101 k1_t102
theorem k1_off1381_inb : ∀ (i : grid1.Coords) (v1856 : BitVec 32) (v1858 : BitVec 32) (k1_hw11 : k1_chk11 i v1856 v1858) (k1_t101 : Fin (k1_t101_loop v1856 v1858).trips) (k1_t102 : Fin (k1_t102_loop v1856 v1858 k1_t101).trips), ∀ a, (k1_off1381 v1856 v1858 k1_t101 k1_t102) a + S1x16.size a ≤ S72x256.size a := fun i v1856 v1858 k1_hw11 k1_t101 k1_t102 => k1_hw11.1.2.2.2.2.2.2.2.2.2.2.2.1 k1_t101 k1_t102
theorem k1_off1382_inb : ∀ (i : grid1.Coords) (v1856 : BitVec 32) (v1858 : BitVec 32) (k1_hw11 : k1_chk11 i v1856 v1858) (k1_t101 : Fin (k1_t101_loop v1856 v1858).trips) (k1_t102 : Fin (k1_t102_loop v1856 v1858 k1_t101).trips), ∀ a, (k1_off1382 v1856 v1858 k1_t101 k1_t102) a + S1x16.size a ≤ S72x256.size a := fun i v1856 v1858 k1_hw11 k1_t101 k1_t102 => k1_hw11.1.2.2.2.2.2.2.2.2.2.2.2.2.1 k1_t101 k1_t102
theorem k1_off1383_inb : ∀ (i : grid1.Coords) (v1856 : BitVec 32) (v1858 : BitVec 32) (k1_hw11 : k1_chk11 i v1856 v1858) (k1_t101 : Fin (k1_t101_loop v1856 v1858).trips) (k1_t102 : Fin (k1_t102_loop v1856 v1858 k1_t101).trips), ∀ a, (k1_off1383 v1856 v1858 k1_t101 k1_t102) a + S1x16.size a ≤ S72x256.size a := fun i v1856 v1858 k1_hw11 k1_t101 k1_t102 => k1_hw11.1.2.2.2.2.2.2.2.2.2.2.2.2.2.1 k1_t101 k1_t102
theorem k1_off1384_inb : ∀ (i : grid1.Coords) (v1856 : BitVec 32) (v1858 : BitVec 32) (k1_hw11 : k1_chk11 i v1856 v1858) (k1_t101 : Fin (k1_t101_loop v1856 v1858).trips) (k1_t102 : Fin (k1_t102_loop v1856 v1858 k1_t101).trips), ∀ a, (k1_off1384 v1856 v1858 k1_t101 k1_t102) a + S1x16.size a ≤ S72x256.size a := fun i v1856 v1858 k1_hw11 k1_t101 k1_t102 => k1_hw11.1.2.2.2.2.2.2.2.2.2.2.2.2.2.2.1 k1_t101 k1_t102
theorem k1_off1385_inb : ∀ (i : grid1.Coords) (v1856 : BitVec 32) (v1858 : BitVec 32) (k1_hw11 : k1_chk11 i v1856 v1858) (k1_t101 : Fin (k1_t101_loop v1856 v1858).trips) (k1_t102 : Fin (k1_t102_loop v1856 v1858 k1_t101).trips), ∀ a, (k1_off1385 v1856 v1858 k1_t101 k1_t102) a + S1x16.size a ≤ S72x256.size a := fun i v1856 v1858 k1_hw11 k1_t101 k1_t102 => k1_hw11.1.2.2.2.2.2.2.2.2.2.2.2.2.2.2.2.1 k1_t101 k1_t102
theorem k1_off1386_inb : ∀ (i : grid1.Coords) (v1856 : BitVec 32) (v1858 : BitVec 32) (k1_hw11 : k1_chk11 i v1856 v1858) (k1_t101 : Fin (k1_t101_loop v1856 v1858).trips) (k1_t102 : Fin (k1_t102_loop v1856 v1858 k1_t101).trips), ∀ a, (k1_off1386 v1856 v1858 k1_t101 k1_t102) a + S1x16.size a ≤ S72x256.size a := fun i v1856 v1858 k1_hw11 k1_t101 k1_t102 => k1_hw11.1.2.2.2.2.2.2.2.2.2.2.2.2.2.2.2.2.1 k1_t101 k1_t102
theorem k1_off1387_inb : ∀ (i : grid1.Coords) (v1856 : BitVec 32) (v1858 : BitVec 32) (k1_hw11 : k1_chk11 i v1856 v1858) (k1_t101 : Fin (k1_t101_loop v1856 v1858).trips) (k1_t102 : Fin (k1_t102_loop v1856 v1858 k1_t101).trips), ∀ a, (k1_off1387 v1856 v1858 k1_t101 k1_t102) a + S1x16.size a ≤ S72x256.size a := fun i v1856 v1858 k1_hw11 k1_t101 k1_t102 => k1_hw11.1.2.2.2.2.2.2.2.2.2.2.2.2.2.2.2.2.2.1 k1_t101 k1_t102
theorem k1_off1388_inb : ∀ (i : grid1.Coords) (v1856 : BitVec 32) (v1858 : BitVec 32) (k1_hw11 : k1_chk11 i v1856 v1858) (k1_t101 : Fin (k1_t101_loop v1856 v1858).trips) (k1_t102 : Fin (k1_t102_loop v1856 v1858 k1_t101).trips), ∀ a, (k1_off1388 v1856 v1858 k1_t101 k1_t102) a + S1x16.size a ≤ S72x256.size a := fun i v1856 v1858 k1_hw11 k1_t101 k1_t102 => k1_hw11.1.2.2.2.2.2.2.2.2.2.2.2.2.2.2.2.2.2.2.1 k1_t101 k1_t102
theorem k1_off1389_inb : ∀ (i : grid1.Coords) (v1856 : BitVec 32) (v1858 : BitVec 32) (k1_hw11 : k1_chk11 i v1856 v1858) (k1_t101 : Fin (k1_t101_loop v1856 v1858).trips) (k1_t102 : Fin (k1_t102_loop v1856 v1858 k1_t101).trips), ∀ a, (k1_off1389 v1856 v1858 k1_t101 k1_t102) a + S1x16.size a ≤ S72x256.size a := fun i v1856 v1858 k1_hw11 k1_t101 k1_t102 => k1_hw11.1.2.2.2.2.2.2.2.2.2.2.2.2.2.2.2.2.2.2.2.1 k1_t101 k1_t102
theorem k1_off1390_inb : ∀ (i : grid1.Coords) (v1856 : BitVec 32) (v1858 : BitVec 32) (k1_hw11 : k1_chk11 i v1856 v1858) (k1_t101 : Fin (k1_t101_loop v1856 v1858).trips) (k1_t102 : Fin (k1_t102_loop v1856 v1858 k1_t101).trips), ∀ a, (k1_off1390 v1856 v1858 k1_t101 k1_t102) a + S1x16.size a ≤ S72x256.size a := fun i v1856 v1858 k1_hw11 k1_t101 k1_t102 => k1_hw11.1.2.2.2.2.2.2.2.2.2.2.2.2.2.2.2.2.2.2.2.2.1 k1_t101 k1_t102
theorem k1_t103_ok : ∀ (i : grid1.Coords) (v1856 : BitVec 32) (v1858 : BitVec 32) (k1_hw11 : k1_chk11 i v1856 v1858) (k1_t101 : Fin (k1_t101_loop v1856 v1858).trips), (k1_t103_loop v1856 v1858 k1_t101).OK := fun i v1856 v1858 k1_hw11 k1_t101 => k1_hw11.1.2.2.2.2.2.2.2.2.2.2.2.2.2.2.2.2.2.2.2.2.2.1 k1_t101
theorem k1_off1391_inb : ∀ (i : grid1.Coords) (v1856 : BitVec 32) (v1858 : BitVec 32) (k1_hw11 : k1_chk11 i v1856 v1858) (k1_t101 : Fin (k1_t101_loop v1856 v1858).trips) (k1_t103 : Fin (k1_t103_loop v1856 v1858 k1_t101).trips), ∀ a, (k1_off1391 v1856 v1858 k1_t101 k1_t103) a + S1x16.size a ≤ S72x256.size a := fun i v1856 v1858 k1_hw11 k1_t101 k1_t103 => k1_hw11.1.2.2.2.2.2.2.2.2.2.2.2.2.2.2.2.2.2.2.2.2.2.2.1 k1_t101 k1_t103
theorem k1_off1392_inb : ∀ (i : grid1.Coords) (v1856 : BitVec 32) (v1858 : BitVec 32) (k1_hw11 : k1_chk11 i v1856 v1858) (k1_t101 : Fin (k1_t101_loop v1856 v1858).trips) (k1_t103 : Fin (k1_t103_loop v1856 v1858 k1_t101).trips), ∀ a, (k1_off1392 v1856 v1858 k1_t101 k1_t103) a + S1x16.size a ≤ S72x256.size a := fun i v1856 v1858 k1_hw11 k1_t101 k1_t103 => k1_hw11.1.2.2.2.2.2.2.2.2.2.2.2.2.2.2.2.2.2.2.2.2.2.2.2.1 k1_t101 k1_t103
theorem k1_off1393_inb : ∀ (i : grid1.Coords) (v1856 : BitVec 32) (v1858 : BitVec 32) (k1_hw11 : k1_chk11 i v1856 v1858) (k1_t101 : Fin (k1_t101_loop v1856 v1858).trips) (k1_t103 : Fin (k1_t103_loop v1856 v1858 k1_t101).trips), ∀ a, (k1_off1393 v1856 v1858 k1_t101 k1_t103) a + S1x16.size a ≤ S72x256.size a := fun i v1856 v1858 k1_hw11 k1_t101 k1_t103 => k1_hw11.1.2.2.2.2.2.2.2.2.2.2.2.2.2.2.2.2.2.2.2.2.2.2.2.2.1 k1_t101 k1_t103
theorem k1_off1394_inb : ∀ (i : grid1.Coords) (v1856 : BitVec 32) (v1858 : BitVec 32) (k1_hw11 : k1_chk11 i v1856 v1858) (k1_t101 : Fin (k1_t101_loop v1856 v1858).trips) (k1_t103 : Fin (k1_t103_loop v1856 v1858 k1_t101).trips), ∀ a, (k1_off1394 v1856 v1858 k1_t101 k1_t103) a + S1x16.size a ≤ S72x256.size a := fun i v1856 v1858 k1_hw11 k1_t101 k1_t103 => k1_hw11.1.2.2.2.2.2.2.2.2.2.2.2.2.2.2.2.2.2.2.2.2.2.2.2.2.2.1 k1_t101 k1_t103
theorem k1_off1395_inb : ∀ (i : grid1.Coords) (v1856 : BitVec 32) (v1858 : BitVec 32) (k1_hw11 : k1_chk11 i v1856 v1858) (k1_t101 : Fin (k1_t101_loop v1856 v1858).trips) (k1_t103 : Fin (k1_t103_loop v1856 v1858 k1_t101).trips), ∀ a, (k1_off1395 v1856 v1858 k1_t101 k1_t103) a + S1x16.size a ≤ S72x256.size a := fun i v1856 v1858 k1_hw11 k1_t101 k1_t103 => k1_hw11.1.2.2.2.2.2.2.2.2.2.2.2.2.2.2.2.2.2.2.2.2.2.2.2.2.2.2.1 k1_t101 k1_t103
theorem k1_off1396_inb : ∀ (i : grid1.Coords) (v1856 : BitVec 32) (v1858 : BitVec 32) (k1_hw11 : k1_chk11 i v1856 v1858) (k1_t101 : Fin (k1_t101_loop v1856 v1858).trips) (k1_t103 : Fin (k1_t103_loop v1856 v1858 k1_t101).trips), ∀ a, (k1_off1396 v1856 v1858 k1_t101 k1_t103) a + S1x16.size a ≤ S72x256.size a := fun i v1856 v1858 k1_hw11 k1_t101 k1_t103 => k1_hw11.1.2.2.2.2.2.2.2.2.2.2.2.2.2.2.2.2.2.2.2.2.2.2.2.2.2.2.2.1 k1_t101 k1_t103
theorem k1_off1397_inb : ∀ (i : grid1.Coords) (v1856 : BitVec 32) (v1858 : BitVec 32) (k1_hw11 : k1_chk11 i v1856 v1858) (k1_t101 : Fin (k1_t101_loop v1856 v1858).trips) (k1_t103 : Fin (k1_t103_loop v1856 v1858 k1_t101).trips), ∀ a, (k1_off1397 v1856 v1858 k1_t101 k1_t103) a + S1x16.size a ≤ S72x256.size a := fun i v1856 v1858 k1_hw11 k1_t101 k1_t103 => k1_hw11.1.2.2.2.2.2.2.2.2.2.2.2.2.2.2.2.2.2.2.2.2.2.2.2.2.2.2.2.2.1 k1_t101 k1_t103
theorem k1_off1398_inb : ∀ (i : grid1.Coords) (v1856 : BitVec 32) (v1858 : BitVec 32) (k1_hw11 : k1_chk11 i v1856 v1858) (k1_t101 : Fin (k1_t101_loop v1856 v1858).trips) (k1_t103 : Fin (k1_t103_loop v1856 v1858 k1_t101).trips), ∀ a, (k1_off1398 v1856 v1858 k1_t101 k1_t103) a + S1x16.size a ≤ S72x256.size a := fun i v1856 v1858 k1_hw11 k1_t101 k1_t103 => k1_hw11.1.2.2.2.2.2.2.2.2.2.2.2.2.2.2.2.2.2.2.2.2.2.2.2.2.2.2.2.2.2.1 k1_t101 k1_t103
theorem k1_off1399_inb : ∀ (i : grid1.Coords) (v1856 : BitVec 32) (v1858 : BitVec 32) (k1_hw11 : k1_chk11 i v1856 v1858) (k1_t101 : Fin (k1_t101_loop v1856 v1858).trips) (k1_t103 : Fin (k1_t103_loop v1856 v1858 k1_t101).trips), ∀ a, (k1_off1399 v1856 v1858 k1_t101 k1_t103) a + S1x16.size a ≤ S72x256.size a := fun i v1856 v1858 k1_hw11 k1_t101 k1_t103 => k1_hw11.1.2.2.2.2.2.2.2.2.2.2.2.2.2.2.2.2.2.2.2.2.2.2.2.2.2.2.2.2.2.2.1 k1_t101 k1_t103
theorem k1_off1400_inb : ∀ (i : grid1.Coords) (v1856 : BitVec 32) (v1858 : BitVec 32) (k1_hw11 : k1_chk11 i v1856 v1858) (k1_t101 : Fin (k1_t101_loop v1856 v1858).trips) (k1_t103 : Fin (k1_t103_loop v1856 v1858 k1_t101).trips), ∀ a, (k1_off1400 v1856 v1858 k1_t101 k1_t103) a + S1x16.size a ≤ S72x256.size a := fun i v1856 v1858 k1_hw11 k1_t101 k1_t103 => k1_hw11.1.2.2.2.2.2.2.2.2.2.2.2.2.2.2.2.2.2.2.2.2.2.2.2.2.2.2.2.2.2.2.2 k1_t101 k1_t103
theorem k1_off1401_inb : ∀ (i : grid1.Coords) (v1856 : BitVec 32) (v1858 : BitVec 32) (k1_hw11 : k1_chk11 i v1856 v1858) (k1_t101 : Fin (k1_t101_loop v1856 v1858).trips) (k1_t103 : Fin (k1_t103_loop v1856 v1858 k1_t101).trips), ∀ a, (k1_off1401 v1856 v1858 k1_t101 k1_t103) a + S1x16.size a ≤ S72x256.size a := fun i v1856 v1858 k1_hw11 k1_t101 k1_t103 => k1_hw11.2.1.1 k1_t101 k1_t103
theorem k1_off1402_inb : ∀ (i : grid1.Coords) (v1856 : BitVec 32) (v1858 : BitVec 32) (k1_hw11 : k1_chk11 i v1856 v1858) (k1_t101 : Fin (k1_t101_loop v1856 v1858).trips) (k1_t103 : Fin (k1_t103_loop v1856 v1858 k1_t101).trips), ∀ a, (k1_off1402 v1856 v1858 k1_t101 k1_t103) a + S1x16.size a ≤ S72x256.size a := fun i v1856 v1858 k1_hw11 k1_t101 k1_t103 => k1_hw11.2.1.2.1 k1_t101 k1_t103
theorem k1_off1403_inb : ∀ (i : grid1.Coords) (v1856 : BitVec 32) (v1858 : BitVec 32) (k1_hw11 : k1_chk11 i v1856 v1858) (k1_t101 : Fin (k1_t101_loop v1856 v1858).trips) (k1_t103 : Fin (k1_t103_loop v1856 v1858 k1_t101).trips), ∀ a, (k1_off1403 v1856 v1858 k1_t101 k1_t103) a + S1x16.size a ≤ S72x256.size a := fun i v1856 v1858 k1_hw11 k1_t101 k1_t103 => k1_hw11.2.1.2.2.1 k1_t101 k1_t103
theorem k1_off1404_inb : ∀ (i : grid1.Coords) (v1856 : BitVec 32) (v1858 : BitVec 32) (k1_hw11 : k1_chk11 i v1856 v1858) (k1_t101 : Fin (k1_t101_loop v1856 v1858).trips) (k1_t103 : Fin (k1_t103_loop v1856 v1858 k1_t101).trips), ∀ a, (k1_off1404 v1856 v1858 k1_t101 k1_t103) a + S1x16.size a ≤ S72x256.size a := fun i v1856 v1858 k1_hw11 k1_t101 k1_t103 => k1_hw11.2.1.2.2.2.1 k1_t101 k1_t103
theorem k1_off1405_inb : ∀ (i : grid1.Coords) (v1856 : BitVec 32) (v1858 : BitVec 32) (k1_hw11 : k1_chk11 i v1856 v1858) (k1_t101 : Fin (k1_t101_loop v1856 v1858).trips) (k1_t103 : Fin (k1_t103_loop v1856 v1858 k1_t101).trips), ∀ a, (k1_off1405 v1856 v1858 k1_t101 k1_t103) a + S1x16.size a ≤ S72x256.size a := fun i v1856 v1858 k1_hw11 k1_t101 k1_t103 => k1_hw11.2.1.2.2.2.2.1 k1_t101 k1_t103
theorem k1_off1406_inb : ∀ (i : grid1.Coords) (v1856 : BitVec 32) (v1858 : BitVec 32) (k1_hw11 : k1_chk11 i v1856 v1858) (k1_t101 : Fin (k1_t101_loop v1856 v1858).trips) (k1_t103 : Fin (k1_t103_loop v1856 v1858 k1_t101).trips), ∀ a, (k1_off1406 v1856 v1858 k1_t101 k1_t103) a + S1x16.size a ≤ S72x256.size a := fun i v1856 v1858 k1_hw11 k1_t101 k1_t103 => k1_hw11.2.1.2.2.2.2.2.1 k1_t101 k1_t103
theorem k1_off1407_inb : ∀ (i : grid1.Coords) (v1856 : BitVec 32) (v1858 : BitVec 32) (k1_hw11 : k1_chk11 i v1856 v1858) (k1_t101 : Fin (k1_t101_loop v1856 v1858).trips), ∀ (k1_h94 : k1_cond94 v1856 v1858 k1_t101 = 1#1), ∀ a, (k1_off1407 i v1856 v1858 k1_t101) a + S72x256.size a ≤ S100000x512.size a := fun i v1856 v1858 k1_hw11 k1_t101 k1_h94 => k1_hw11.2.1.2.2.2.2.2.2.1 k1_t101 k1_h94
theorem k1_off1408_inb : ∀ (i : grid1.Coords) (v1856 : BitVec 32) (v1858 : BitVec 32) (k1_hw11 : k1_chk11 i v1856 v1858) (k1_t101 : Fin (k1_t101_loop v1856 v1858).trips), ∀ (k1_h94 : k1_cond94 v1856 v1858 k1_t101 = 1#1), ∀ (k1_h95 : k1_cond95 v1856 v1858 k1_t101 = 1#1), ∀ a, (k1_off1408 i v1856 v1858 k1_t101) a + S72x256.size a ≤ S100000x512.size a := fun i v1856 v1858 k1_hw11 k1_t101 k1_h94 k1_h95 => k1_hw11.2.1.2.2.2.2.2.2.2.1 k1_t101 k1_h94 k1_h95
theorem k1_t104_ok : ∀ (i : grid1.Coords) (v1856 : BitVec 32) (v1858 : BitVec 32) (k1_hw11 : k1_chk11 i v1856 v1858) (k1_t101 : Fin (k1_t101_loop v1856 v1858).trips), (k1_t104_loop v1856 v1858 k1_t101).OK := fun i v1856 v1858 k1_hw11 k1_t101 => k1_hw11.2.1.2.2.2.2.2.2.2.2.1 k1_t101
theorem k1_off1409_inb : ∀ (i : grid1.Coords) (v1856 : BitVec 32) (v1858 : BitVec 32) (k1_hw11 : k1_chk11 i v1856 v1858) (k1_t101 : Fin (k1_t101_loop v1856 v1858).trips) (k1_t104 : Fin (k1_t104_loop v1856 v1858 k1_t101).trips), ∀ a, (k1_off1409 v1856 v1858 k1_t101 k1_t104) a + S1x16.size a ≤ S72x256.size a := fun i v1856 v1858 k1_hw11 k1_t101 k1_t104 => k1_hw11.2.1.2.2.2.2.2.2.2.2.2.1 k1_t101 k1_t104
theorem k1_off1410_inb : ∀ (i : grid1.Coords) (v1856 : BitVec 32) (v1858 : BitVec 32) (k1_hw11 : k1_chk11 i v1856 v1858) (k1_t101 : Fin (k1_t101_loop v1856 v1858).trips) (k1_t104 : Fin (k1_t104_loop v1856 v1858 k1_t101).trips), ∀ a, (k1_off1410 v1856 v1858 k1_t101 k1_t104) a + S1x16.size a ≤ S72x256.size a := fun i v1856 v1858 k1_hw11 k1_t101 k1_t104 => k1_hw11.2.1.2.2.2.2.2.2.2.2.2.2.1 k1_t101 k1_t104
theorem k1_off1411_inb : ∀ (i : grid1.Coords) (v1856 : BitVec 32) (v1858 : BitVec 32) (k1_hw11 : k1_chk11 i v1856 v1858) (k1_t101 : Fin (k1_t101_loop v1856 v1858).trips) (k1_t104 : Fin (k1_t104_loop v1856 v1858 k1_t101).trips), ∀ a, (k1_off1411 v1856 v1858 k1_t101 k1_t104) a + S1x16.size a ≤ S72x256.size a := fun i v1856 v1858 k1_hw11 k1_t101 k1_t104 => k1_hw11.2.1.2.2.2.2.2.2.2.2.2.2.2.1 k1_t101 k1_t104
theorem k1_off1412_inb : ∀ (i : grid1.Coords) (v1856 : BitVec 32) (v1858 : BitVec 32) (k1_hw11 : k1_chk11 i v1856 v1858) (k1_t101 : Fin (k1_t101_loop v1856 v1858).trips) (k1_t104 : Fin (k1_t104_loop v1856 v1858 k1_t101).trips), ∀ a, (k1_off1412 v1856 v1858 k1_t101 k1_t104) a + S1x16.size a ≤ S72x256.size a := fun i v1856 v1858 k1_hw11 k1_t101 k1_t104 => k1_hw11.2.1.2.2.2.2.2.2.2.2.2.2.2.2.1 k1_t101 k1_t104
theorem k1_off1413_inb : ∀ (i : grid1.Coords) (v1856 : BitVec 32) (v1858 : BitVec 32) (k1_hw11 : k1_chk11 i v1856 v1858) (k1_t101 : Fin (k1_t101_loop v1856 v1858).trips) (k1_t104 : Fin (k1_t104_loop v1856 v1858 k1_t101).trips), ∀ a, (k1_off1413 v1856 v1858 k1_t101 k1_t104) a + S1x16.size a ≤ S72x256.size a := fun i v1856 v1858 k1_hw11 k1_t101 k1_t104 => k1_hw11.2.1.2.2.2.2.2.2.2.2.2.2.2.2.2.1 k1_t101 k1_t104
theorem k1_off1414_inb : ∀ (i : grid1.Coords) (v1856 : BitVec 32) (v1858 : BitVec 32) (k1_hw11 : k1_chk11 i v1856 v1858) (k1_t101 : Fin (k1_t101_loop v1856 v1858).trips) (k1_t104 : Fin (k1_t104_loop v1856 v1858 k1_t101).trips), ∀ a, (k1_off1414 v1856 v1858 k1_t101 k1_t104) a + S1x16.size a ≤ S72x256.size a := fun i v1856 v1858 k1_hw11 k1_t101 k1_t104 => k1_hw11.2.1.2.2.2.2.2.2.2.2.2.2.2.2.2.2.1 k1_t101 k1_t104
theorem k1_off1415_inb : ∀ (i : grid1.Coords) (v1856 : BitVec 32) (v1858 : BitVec 32) (k1_hw11 : k1_chk11 i v1856 v1858) (k1_t101 : Fin (k1_t101_loop v1856 v1858).trips) (k1_t104 : Fin (k1_t104_loop v1856 v1858 k1_t101).trips), ∀ a, (k1_off1415 v1856 v1858 k1_t101 k1_t104) a + S1x16.size a ≤ S72x256.size a := fun i v1856 v1858 k1_hw11 k1_t101 k1_t104 => k1_hw11.2.1.2.2.2.2.2.2.2.2.2.2.2.2.2.2.2.1 k1_t101 k1_t104
theorem k1_off1416_inb : ∀ (i : grid1.Coords) (v1856 : BitVec 32) (v1858 : BitVec 32) (k1_hw11 : k1_chk11 i v1856 v1858) (k1_t101 : Fin (k1_t101_loop v1856 v1858).trips) (k1_t104 : Fin (k1_t104_loop v1856 v1858 k1_t101).trips), ∀ a, (k1_off1416 v1856 v1858 k1_t101 k1_t104) a + S1x16.size a ≤ S72x256.size a := fun i v1856 v1858 k1_hw11 k1_t101 k1_t104 => k1_hw11.2.1.2.2.2.2.2.2.2.2.2.2.2.2.2.2.2.2.1 k1_t101 k1_t104
theorem k1_off1417_inb : ∀ (i : grid1.Coords) (v1856 : BitVec 32) (v1858 : BitVec 32) (k1_hw11 : k1_chk11 i v1856 v1858) (k1_t101 : Fin (k1_t101_loop v1856 v1858).trips) (k1_t104 : Fin (k1_t104_loop v1856 v1858 k1_t101).trips), ∀ a, (k1_off1417 v1856 v1858 k1_t101 k1_t104) a + S1x16.size a ≤ S72x256.size a := fun i v1856 v1858 k1_hw11 k1_t101 k1_t104 => k1_hw11.2.1.2.2.2.2.2.2.2.2.2.2.2.2.2.2.2.2.2.1 k1_t101 k1_t104
theorem k1_off1418_inb : ∀ (i : grid1.Coords) (v1856 : BitVec 32) (v1858 : BitVec 32) (k1_hw11 : k1_chk11 i v1856 v1858) (k1_t101 : Fin (k1_t101_loop v1856 v1858).trips) (k1_t104 : Fin (k1_t104_loop v1856 v1858 k1_t101).trips), ∀ a, (k1_off1418 v1856 v1858 k1_t101 k1_t104) a + S1x16.size a ≤ S72x256.size a := fun i v1856 v1858 k1_hw11 k1_t101 k1_t104 => k1_hw11.2.1.2.2.2.2.2.2.2.2.2.2.2.2.2.2.2.2.2.2.1 k1_t101 k1_t104
theorem k1_off1419_inb : ∀ (i : grid1.Coords) (v1856 : BitVec 32) (v1858 : BitVec 32) (k1_hw11 : k1_chk11 i v1856 v1858) (k1_t101 : Fin (k1_t101_loop v1856 v1858).trips) (k1_t104 : Fin (k1_t104_loop v1856 v1858 k1_t101).trips), ∀ a, (k1_off1419 v1856 v1858 k1_t101 k1_t104) a + S1x16.size a ≤ S72x256.size a := fun i v1856 v1858 k1_hw11 k1_t101 k1_t104 => k1_hw11.2.1.2.2.2.2.2.2.2.2.2.2.2.2.2.2.2.2.2.2.2.1 k1_t101 k1_t104
theorem k1_off1420_inb : ∀ (i : grid1.Coords) (v1856 : BitVec 32) (v1858 : BitVec 32) (k1_hw11 : k1_chk11 i v1856 v1858) (k1_t101 : Fin (k1_t101_loop v1856 v1858).trips) (k1_t104 : Fin (k1_t104_loop v1856 v1858 k1_t101).trips), ∀ a, (k1_off1420 v1856 v1858 k1_t101 k1_t104) a + S1x16.size a ≤ S72x256.size a := fun i v1856 v1858 k1_hw11 k1_t101 k1_t104 => k1_hw11.2.1.2.2.2.2.2.2.2.2.2.2.2.2.2.2.2.2.2.2.2.2.1 k1_t101 k1_t104
theorem k1_off1421_inb : ∀ (i : grid1.Coords) (v1856 : BitVec 32) (v1858 : BitVec 32) (k1_hw11 : k1_chk11 i v1856 v1858) (k1_t101 : Fin (k1_t101_loop v1856 v1858).trips) (k1_t104 : Fin (k1_t104_loop v1856 v1858 k1_t101).trips), ∀ a, (k1_off1421 v1856 v1858 k1_t101 k1_t104) a + S1x16.size a ≤ S72x256.size a := fun i v1856 v1858 k1_hw11 k1_t101 k1_t104 => k1_hw11.2.1.2.2.2.2.2.2.2.2.2.2.2.2.2.2.2.2.2.2.2.2.2.1 k1_t101 k1_t104
theorem k1_off1422_inb : ∀ (i : grid1.Coords) (v1856 : BitVec 32) (v1858 : BitVec 32) (k1_hw11 : k1_chk11 i v1856 v1858) (k1_t101 : Fin (k1_t101_loop v1856 v1858).trips) (k1_t104 : Fin (k1_t104_loop v1856 v1858 k1_t101).trips), ∀ a, (k1_off1422 v1856 v1858 k1_t101 k1_t104) a + S1x16.size a ≤ S72x256.size a := fun i v1856 v1858 k1_hw11 k1_t101 k1_t104 => k1_hw11.2.1.2.2.2.2.2.2.2.2.2.2.2.2.2.2.2.2.2.2.2.2.2.2.1 k1_t101 k1_t104
theorem k1_off1423_inb : ∀ (i : grid1.Coords) (v1856 : BitVec 32) (v1858 : BitVec 32) (k1_hw11 : k1_chk11 i v1856 v1858) (k1_t101 : Fin (k1_t101_loop v1856 v1858).trips) (k1_t104 : Fin (k1_t104_loop v1856 v1858 k1_t101).trips), ∀ a, (k1_off1423 v1856 v1858 k1_t101 k1_t104) a + S1x16.size a ≤ S72x256.size a := fun i v1856 v1858 k1_hw11 k1_t101 k1_t104 => k1_hw11.2.1.2.2.2.2.2.2.2.2.2.2.2.2.2.2.2.2.2.2.2.2.2.2.2.1 k1_t101 k1_t104
theorem k1_off1424_inb : ∀ (i : grid1.Coords) (v1856 : BitVec 32) (v1858 : BitVec 32) (k1_hw11 : k1_chk11 i v1856 v1858) (k1_t101 : Fin (k1_t101_loop v1856 v1858).trips) (k1_t104 : Fin (k1_t104_loop v1856 v1858 k1_t101).trips), ∀ a, (k1_off1424 v1856 v1858 k1_t101 k1_t104) a + S1x16.size a ≤ S72x256.size a := fun i v1856 v1858 k1_hw11 k1_t101 k1_t104 => k1_hw11.2.1.2.2.2.2.2.2.2.2.2.2.2.2.2.2.2.2.2.2.2.2.2.2.2.2.1 k1_t101 k1_t104
theorem k1_t105_ok : ∀ (i : grid1.Coords) (v1856 : BitVec 32) (v1858 : BitVec 32) (k1_hw11 : k1_chk11 i v1856 v1858) (k1_t101 : Fin (k1_t101_loop v1856 v1858).trips), (k1_t105_loop v1856 v1858 k1_t101).OK := fun i v1856 v1858 k1_hw11 k1_t101 => k1_hw11.2.1.2.2.2.2.2.2.2.2.2.2.2.2.2.2.2.2.2.2.2.2.2.2.2.2.2.1 k1_t101
theorem k1_off1425_inb : ∀ (i : grid1.Coords) (v1856 : BitVec 32) (v1858 : BitVec 32) (k1_hw11 : k1_chk11 i v1856 v1858) (k1_t101 : Fin (k1_t101_loop v1856 v1858).trips) (k1_t105 : Fin (k1_t105_loop v1856 v1858 k1_t101).trips), ∀ a, (k1_off1425 v1856 v1858 k1_t101 k1_t105) a + S1x16.size a ≤ S72x256.size a := fun i v1856 v1858 k1_hw11 k1_t101 k1_t105 => k1_hw11.2.1.2.2.2.2.2.2.2.2.2.2.2.2.2.2.2.2.2.2.2.2.2.2.2.2.2.2.1 k1_t101 k1_t105
theorem k1_off1426_inb : ∀ (i : grid1.Coords) (v1856 : BitVec 32) (v1858 : BitVec 32) (k1_hw11 : k1_chk11 i v1856 v1858) (k1_t101 : Fin (k1_t101_loop v1856 v1858).trips) (k1_t105 : Fin (k1_t105_loop v1856 v1858 k1_t101).trips), ∀ a, (k1_off1426 v1856 v1858 k1_t101 k1_t105) a + S1x16.size a ≤ S72x256.size a := fun i v1856 v1858 k1_hw11 k1_t101 k1_t105 => k1_hw11.2.1.2.2.2.2.2.2.2.2.2.2.2.2.2.2.2.2.2.2.2.2.2.2.2.2.2.2.2.1 k1_t101 k1_t105
theorem k1_off1427_inb : ∀ (i : grid1.Coords) (v1856 : BitVec 32) (v1858 : BitVec 32) (k1_hw11 : k1_chk11 i v1856 v1858) (k1_t101 : Fin (k1_t101_loop v1856 v1858).trips) (k1_t105 : Fin (k1_t105_loop v1856 v1858 k1_t101).trips), ∀ a, (k1_off1427 v1856 v1858 k1_t101 k1_t105) a + S1x16.size a ≤ S72x256.size a := fun i v1856 v1858 k1_hw11 k1_t101 k1_t105 => k1_hw11.2.1.2.2.2.2.2.2.2.2.2.2.2.2.2.2.2.2.2.2.2.2.2.2.2.2.2.2.2.2.1 k1_t101 k1_t105
theorem k1_off1428_inb : ∀ (i : grid1.Coords) (v1856 : BitVec 32) (v1858 : BitVec 32) (k1_hw11 : k1_chk11 i v1856 v1858) (k1_t101 : Fin (k1_t101_loop v1856 v1858).trips) (k1_t105 : Fin (k1_t105_loop v1856 v1858 k1_t101).trips), ∀ a, (k1_off1428 v1856 v1858 k1_t101 k1_t105) a + S1x16.size a ≤ S72x256.size a := fun i v1856 v1858 k1_hw11 k1_t101 k1_t105 => k1_hw11.2.1.2.2.2.2.2.2.2.2.2.2.2.2.2.2.2.2.2.2.2.2.2.2.2.2.2.2.2.2.2.1 k1_t101 k1_t105
theorem k1_off1429_inb : ∀ (i : grid1.Coords) (v1856 : BitVec 32) (v1858 : BitVec 32) (k1_hw11 : k1_chk11 i v1856 v1858) (k1_t101 : Fin (k1_t101_loop v1856 v1858).trips) (k1_t105 : Fin (k1_t105_loop v1856 v1858 k1_t101).trips), ∀ a, (k1_off1429 v1856 v1858 k1_t101 k1_t105) a + S1x16.size a ≤ S72x256.size a := fun i v1856 v1858 k1_hw11 k1_t101 k1_t105 => k1_hw11.2.1.2.2.2.2.2.2.2.2.2.2.2.2.2.2.2.2.2.2.2.2.2.2.2.2.2.2.2.2.2.2.1 k1_t101 k1_t105
theorem k1_off1430_inb : ∀ (i : grid1.Coords) (v1856 : BitVec 32) (v1858 : BitVec 32) (k1_hw11 : k1_chk11 i v1856 v1858) (k1_t101 : Fin (k1_t101_loop v1856 v1858).trips) (k1_t105 : Fin (k1_t105_loop v1856 v1858 k1_t101).trips), ∀ a, (k1_off1430 v1856 v1858 k1_t101 k1_t105) a + S1x16.size a ≤ S72x256.size a := fun i v1856 v1858 k1_hw11 k1_t101 k1_t105 => k1_hw11.2.1.2.2.2.2.2.2.2.2.2.2.2.2.2.2.2.2.2.2.2.2.2.2.2.2.2.2.2.2.2.2.2 k1_t101 k1_t105
theorem k1_off1431_inb : ∀ (i : grid1.Coords) (v1856 : BitVec 32) (v1858 : BitVec 32) (k1_hw11 : k1_chk11 i v1856 v1858) (k1_t101 : Fin (k1_t101_loop v1856 v1858).trips) (k1_t105 : Fin (k1_t105_loop v1856 v1858 k1_t101).trips), ∀ a, (k1_off1431 v1856 v1858 k1_t101 k1_t105) a + S1x16.size a ≤ S72x256.size a := fun i v1856 v1858 k1_hw11 k1_t101 k1_t105 => k1_hw11.2.2.1.1 k1_t101 k1_t105
theorem k1_off1432_inb : ∀ (i : grid1.Coords) (v1856 : BitVec 32) (v1858 : BitVec 32) (k1_hw11 : k1_chk11 i v1856 v1858) (k1_t101 : Fin (k1_t101_loop v1856 v1858).trips) (k1_t105 : Fin (k1_t105_loop v1856 v1858 k1_t101).trips), ∀ a, (k1_off1432 v1856 v1858 k1_t101 k1_t105) a + S1x16.size a ≤ S72x256.size a := fun i v1856 v1858 k1_hw11 k1_t101 k1_t105 => k1_hw11.2.2.1.2.1 k1_t101 k1_t105
theorem k1_off1433_inb : ∀ (i : grid1.Coords) (v1856 : BitVec 32) (v1858 : BitVec 32) (k1_hw11 : k1_chk11 i v1856 v1858) (k1_t101 : Fin (k1_t101_loop v1856 v1858).trips) (k1_t105 : Fin (k1_t105_loop v1856 v1858 k1_t101).trips), ∀ a, (k1_off1433 v1856 v1858 k1_t101 k1_t105) a + S1x16.size a ≤ S72x256.size a := fun i v1856 v1858 k1_hw11 k1_t101 k1_t105 => k1_hw11.2.2.1.2.2.1 k1_t101 k1_t105
theorem k1_off1434_inb : ∀ (i : grid1.Coords) (v1856 : BitVec 32) (v1858 : BitVec 32) (k1_hw11 : k1_chk11 i v1856 v1858) (k1_t101 : Fin (k1_t101_loop v1856 v1858).trips) (k1_t105 : Fin (k1_t105_loop v1856 v1858 k1_t101).trips), ∀ a, (k1_off1434 v1856 v1858 k1_t101 k1_t105) a + S1x16.size a ≤ S72x256.size a := fun i v1856 v1858 k1_hw11 k1_t101 k1_t105 => k1_hw11.2.2.1.2.2.2.1 k1_t101 k1_t105
theorem k1_off1435_inb : ∀ (i : grid1.Coords) (v1856 : BitVec 32) (v1858 : BitVec 32) (k1_hw11 : k1_chk11 i v1856 v1858) (k1_t101 : Fin (k1_t101_loop v1856 v1858).trips) (k1_t105 : Fin (k1_t105_loop v1856 v1858 k1_t101).trips), ∀ a, (k1_off1435 v1856 v1858 k1_t101 k1_t105) a + S1x16.size a ≤ S72x256.size a := fun i v1856 v1858 k1_hw11 k1_t101 k1_t105 => k1_hw11.2.2.1.2.2.2.2.1 k1_t101 k1_t105
theorem k1_off1436_inb : ∀ (i : grid1.Coords) (v1856 : BitVec 32) (v1858 : BitVec 32) (k1_hw11 : k1_chk11 i v1856 v1858) (k1_t101 : Fin (k1_t101_loop v1856 v1858).trips) (k1_t105 : Fin (k1_t105_loop v1856 v1858 k1_t101).trips), ∀ a, (k1_off1436 v1856 v1858 k1_t101 k1_t105) a + S1x16.size a ≤ S72x256.size a := fun i v1856 v1858 k1_hw11 k1_t101 k1_t105 => k1_hw11.2.2.1.2.2.2.2.2.1 k1_t101 k1_t105
theorem k1_off1437_inb : ∀ (i : grid1.Coords) (v1856 : BitVec 32) (v1858 : BitVec 32) (k1_hw11 : k1_chk11 i v1856 v1858) (k1_t101 : Fin (k1_t101_loop v1856 v1858).trips) (k1_t105 : Fin (k1_t105_loop v1856 v1858 k1_t101).trips), ∀ a, (k1_off1437 v1856 v1858 k1_t101 k1_t105) a + S1x16.size a ≤ S72x256.size a := fun i v1856 v1858 k1_hw11 k1_t101 k1_t105 => k1_hw11.2.2.1.2.2.2.2.2.2.1 k1_t101 k1_t105
theorem k1_off1438_inb : ∀ (i : grid1.Coords) (v1856 : BitVec 32) (v1858 : BitVec 32) (k1_hw11 : k1_chk11 i v1856 v1858) (k1_t101 : Fin (k1_t101_loop v1856 v1858).trips) (k1_t105 : Fin (k1_t105_loop v1856 v1858 k1_t101).trips), ∀ a, (k1_off1438 v1856 v1858 k1_t101 k1_t105) a + S1x16.size a ≤ S72x256.size a := fun i v1856 v1858 k1_hw11 k1_t101 k1_t105 => k1_hw11.2.2.1.2.2.2.2.2.2.2.1 k1_t101 k1_t105
theorem k1_off1439_inb : ∀ (i : grid1.Coords) (v1856 : BitVec 32) (v1858 : BitVec 32) (k1_hw11 : k1_chk11 i v1856 v1858) (k1_t101 : Fin (k1_t101_loop v1856 v1858).trips) (k1_t105 : Fin (k1_t105_loop v1856 v1858 k1_t101).trips), ∀ a, (k1_off1439 v1856 v1858 k1_t101 k1_t105) a + S1x16.size a ≤ S72x256.size a := fun i v1856 v1858 k1_hw11 k1_t101 k1_t105 => k1_hw11.2.2.1.2.2.2.2.2.2.2.2.1 k1_t101 k1_t105
theorem k1_off1440_inb : ∀ (i : grid1.Coords) (v1856 : BitVec 32) (v1858 : BitVec 32) (k1_hw11 : k1_chk11 i v1856 v1858) (k1_t101 : Fin (k1_t101_loop v1856 v1858).trips) (k1_t105 : Fin (k1_t105_loop v1856 v1858 k1_t101).trips), ∀ a, (k1_off1440 v1856 v1858 k1_t101 k1_t105) a + S1x16.size a ≤ S72x256.size a := fun i v1856 v1858 k1_hw11 k1_t101 k1_t105 => k1_hw11.2.2.1.2.2.2.2.2.2.2.2.2.1 k1_t101 k1_t105
theorem k1_t106_ok : ∀ (i : grid1.Coords) (v1856 : BitVec 32) (v1858 : BitVec 32) (k1_hw11 : k1_chk11 i v1856 v1858), (k1_t106_loop v1856 v1858).OK := fun i v1856 v1858 k1_hw11 => k1_hw11.2.2.1.2.2.2.2.2.2.2.2.2.2.1
theorem k1_off1441_inb : ∀ (i : grid1.Coords) (v1856 : BitVec 32) (v1858 : BitVec 32) (k1_hw11 : k1_chk11 i v1856 v1858) (k1_t106 : Fin (k1_t106_loop v1856 v1858).trips), ∀ (k1_h96 : k1_cond96 v1856 v1858 k1_t106 = 1#1), ∀ a, (k1_off1441 i v1856 v1858 k1_t106) a + S72x256.size a ≤ S100000x512.size a := fun i v1856 v1858 k1_hw11 k1_t106 k1_h96 => k1_hw11.2.2.1.2.2.2.2.2.2.2.2.2.2.2.1 k1_t106 k1_h96
theorem k1_off1442_inb : ∀ (i : grid1.Coords) (v1856 : BitVec 32) (v1858 : BitVec 32) (k1_hw11 : k1_chk11 i v1856 v1858) (k1_t106 : Fin (k1_t106_loop v1856 v1858).trips), ∀ (k1_h96 : k1_cond96 v1856 v1858 k1_t106 = 1#1), ∀ (k1_h97 : k1_cond97 v1856 v1858 k1_t106 = 1#1), ∀ a, (k1_off1442 i v1856 v1858 k1_t106) a + S72x256.size a ≤ S100000x512.size a := fun i v1856 v1858 k1_hw11 k1_t106 k1_h96 k1_h97 => k1_hw11.2.2.1.2.2.2.2.2.2.2.2.2.2.2.2.1 k1_t106 k1_h96 k1_h97
theorem k1_t107_ok : ∀ (i : grid1.Coords) (v1856 : BitVec 32) (v1858 : BitVec 32) (k1_hw11 : k1_chk11 i v1856 v1858) (k1_t106 : Fin (k1_t106_loop v1856 v1858).trips), (k1_t107_loop v1856 v1858 k1_t106).OK := fun i v1856 v1858 k1_hw11 k1_t106 => k1_hw11.2.2.1.2.2.2.2.2.2.2.2.2.2.2.2.2.1 k1_t106
theorem k1_off1443_inb : ∀ (i : grid1.Coords) (v1856 : BitVec 32) (v1858 : BitVec 32) (k1_hw11 : k1_chk11 i v1856 v1858) (k1_t106 : Fin (k1_t106_loop v1856 v1858).trips) (k1_t107 : Fin (k1_t107_loop v1856 v1858 k1_t106).trips), ∀ a, (k1_off1443 v1856 v1858 k1_t106 k1_t107) a + S1x16.size a ≤ S72x256.size a := fun i v1856 v1858 k1_hw11 k1_t106 k1_t107 => k1_hw11.2.2.1.2.2.2.2.2.2.2.2.2.2.2.2.2.2.1 k1_t106 k1_t107
theorem k1_off1444_inb : ∀ (i : grid1.Coords) (v1856 : BitVec 32) (v1858 : BitVec 32) (k1_hw11 : k1_chk11 i v1856 v1858) (k1_t106 : Fin (k1_t106_loop v1856 v1858).trips) (k1_t107 : Fin (k1_t107_loop v1856 v1858 k1_t106).trips), ∀ a, (k1_off1444 v1856 v1858 k1_t106 k1_t107) a + S1x16.size a ≤ S72x256.size a := fun i v1856 v1858 k1_hw11 k1_t106 k1_t107 => k1_hw11.2.2.1.2.2.2.2.2.2.2.2.2.2.2.2.2.2.2.1 k1_t106 k1_t107
theorem k1_off1445_inb : ∀ (i : grid1.Coords) (v1856 : BitVec 32) (v1858 : BitVec 32) (k1_hw11 : k1_chk11 i v1856 v1858) (k1_t106 : Fin (k1_t106_loop v1856 v1858).trips) (k1_t107 : Fin (k1_t107_loop v1856 v1858 k1_t106).trips), ∀ a, (k1_off1445 v1856 v1858 k1_t106 k1_t107) a + S1x16.size a ≤ S72x256.size a := fun i v1856 v1858 k1_hw11 k1_t106 k1_t107 => k1_hw11.2.2.1.2.2.2.2.2.2.2.2.2.2.2.2.2.2.2.2.1 k1_t106 k1_t107
theorem k1_off1446_inb : ∀ (i : grid1.Coords) (v1856 : BitVec 32) (v1858 : BitVec 32) (k1_hw11 : k1_chk11 i v1856 v1858) (k1_t106 : Fin (k1_t106_loop v1856 v1858).trips) (k1_t107 : Fin (k1_t107_loop v1856 v1858 k1_t106).trips), ∀ a, (k1_off1446 v1856 v1858 k1_t106 k1_t107) a + S1x16.size a ≤ S72x256.size a := fun i v1856 v1858 k1_hw11 k1_t106 k1_t107 => k1_hw11.2.2.1.2.2.2.2.2.2.2.2.2.2.2.2.2.2.2.2.2.1 k1_t106 k1_t107
theorem k1_off1447_inb : ∀ (i : grid1.Coords) (v1856 : BitVec 32) (v1858 : BitVec 32) (k1_hw11 : k1_chk11 i v1856 v1858) (k1_t106 : Fin (k1_t106_loop v1856 v1858).trips) (k1_t107 : Fin (k1_t107_loop v1856 v1858 k1_t106).trips), ∀ a, (k1_off1447 v1856 v1858 k1_t106 k1_t107) a + S1x16.size a ≤ S72x256.size a := fun i v1856 v1858 k1_hw11 k1_t106 k1_t107 => k1_hw11.2.2.1.2.2.2.2.2.2.2.2.2.2.2.2.2.2.2.2.2.2.1 k1_t106 k1_t107
theorem k1_off1448_inb : ∀ (i : grid1.Coords) (v1856 : BitVec 32) (v1858 : BitVec 32) (k1_hw11 : k1_chk11 i v1856 v1858) (k1_t106 : Fin (k1_t106_loop v1856 v1858).trips) (k1_t107 : Fin (k1_t107_loop v1856 v1858 k1_t106).trips), ∀ a, (k1_off1448 v1856 v1858 k1_t106 k1_t107) a + S1x16.size a ≤ S72x256.size a := fun i v1856 v1858 k1_hw11 k1_t106 k1_t107 => k1_hw11.2.2.1.2.2.2.2.2.2.2.2.2.2.2.2.2.2.2.2.2.2.2.1 k1_t106 k1_t107
theorem k1_off1449_inb : ∀ (i : grid1.Coords) (v1856 : BitVec 32) (v1858 : BitVec 32) (k1_hw11 : k1_chk11 i v1856 v1858) (k1_t106 : Fin (k1_t106_loop v1856 v1858).trips) (k1_t107 : Fin (k1_t107_loop v1856 v1858 k1_t106).trips), ∀ a, (k1_off1449 v1856 v1858 k1_t106 k1_t107) a + S1x16.size a ≤ S72x256.size a := fun i v1856 v1858 k1_hw11 k1_t106 k1_t107 => k1_hw11.2.2.1.2.2.2.2.2.2.2.2.2.2.2.2.2.2.2.2.2.2.2.2.1 k1_t106 k1_t107
theorem k1_off1450_inb : ∀ (i : grid1.Coords) (v1856 : BitVec 32) (v1858 : BitVec 32) (k1_hw11 : k1_chk11 i v1856 v1858) (k1_t106 : Fin (k1_t106_loop v1856 v1858).trips) (k1_t107 : Fin (k1_t107_loop v1856 v1858 k1_t106).trips), ∀ a, (k1_off1450 v1856 v1858 k1_t106 k1_t107) a + S1x16.size a ≤ S72x256.size a := fun i v1856 v1858 k1_hw11 k1_t106 k1_t107 => k1_hw11.2.2.1.2.2.2.2.2.2.2.2.2.2.2.2.2.2.2.2.2.2.2.2.2.1 k1_t106 k1_t107
theorem k1_off1451_inb : ∀ (i : grid1.Coords) (v1856 : BitVec 32) (v1858 : BitVec 32) (k1_hw11 : k1_chk11 i v1856 v1858) (k1_t106 : Fin (k1_t106_loop v1856 v1858).trips) (k1_t107 : Fin (k1_t107_loop v1856 v1858 k1_t106).trips), ∀ a, (k1_off1451 v1856 v1858 k1_t106 k1_t107) a + S1x16.size a ≤ S72x256.size a := fun i v1856 v1858 k1_hw11 k1_t106 k1_t107 => k1_hw11.2.2.1.2.2.2.2.2.2.2.2.2.2.2.2.2.2.2.2.2.2.2.2.2.2.1 k1_t106 k1_t107
theorem k1_off1452_inb : ∀ (i : grid1.Coords) (v1856 : BitVec 32) (v1858 : BitVec 32) (k1_hw11 : k1_chk11 i v1856 v1858) (k1_t106 : Fin (k1_t106_loop v1856 v1858).trips) (k1_t107 : Fin (k1_t107_loop v1856 v1858 k1_t106).trips), ∀ a, (k1_off1452 v1856 v1858 k1_t106 k1_t107) a + S1x16.size a ≤ S72x256.size a := fun i v1856 v1858 k1_hw11 k1_t106 k1_t107 => k1_hw11.2.2.1.2.2.2.2.2.2.2.2.2.2.2.2.2.2.2.2.2.2.2.2.2.2.2.1 k1_t106 k1_t107
theorem k1_off1453_inb : ∀ (i : grid1.Coords) (v1856 : BitVec 32) (v1858 : BitVec 32) (k1_hw11 : k1_chk11 i v1856 v1858) (k1_t106 : Fin (k1_t106_loop v1856 v1858).trips) (k1_t107 : Fin (k1_t107_loop v1856 v1858 k1_t106).trips), ∀ a, (k1_off1453 v1856 v1858 k1_t106 k1_t107) a + S1x16.size a ≤ S72x256.size a := fun i v1856 v1858 k1_hw11 k1_t106 k1_t107 => k1_hw11.2.2.1.2.2.2.2.2.2.2.2.2.2.2.2.2.2.2.2.2.2.2.2.2.2.2.2.1 k1_t106 k1_t107
theorem k1_off1454_inb : ∀ (i : grid1.Coords) (v1856 : BitVec 32) (v1858 : BitVec 32) (k1_hw11 : k1_chk11 i v1856 v1858) (k1_t106 : Fin (k1_t106_loop v1856 v1858).trips) (k1_t107 : Fin (k1_t107_loop v1856 v1858 k1_t106).trips), ∀ a, (k1_off1454 v1856 v1858 k1_t106 k1_t107) a + S1x16.size a ≤ S72x256.size a := fun i v1856 v1858 k1_hw11 k1_t106 k1_t107 => k1_hw11.2.2.1.2.2.2.2.2.2.2.2.2.2.2.2.2.2.2.2.2.2.2.2.2.2.2.2.2.1 k1_t106 k1_t107
theorem k1_off1455_inb : ∀ (i : grid1.Coords) (v1856 : BitVec 32) (v1858 : BitVec 32) (k1_hw11 : k1_chk11 i v1856 v1858) (k1_t106 : Fin (k1_t106_loop v1856 v1858).trips) (k1_t107 : Fin (k1_t107_loop v1856 v1858 k1_t106).trips), ∀ a, (k1_off1455 v1856 v1858 k1_t106 k1_t107) a + S1x16.size a ≤ S72x256.size a := fun i v1856 v1858 k1_hw11 k1_t106 k1_t107 => k1_hw11.2.2.1.2.2.2.2.2.2.2.2.2.2.2.2.2.2.2.2.2.2.2.2.2.2.2.2.2.2.1 k1_t106 k1_t107
theorem k1_off1456_inb : ∀ (i : grid1.Coords) (v1856 : BitVec 32) (v1858 : BitVec 32) (k1_hw11 : k1_chk11 i v1856 v1858) (k1_t106 : Fin (k1_t106_loop v1856 v1858).trips) (k1_t107 : Fin (k1_t107_loop v1856 v1858 k1_t106).trips), ∀ a, (k1_off1456 v1856 v1858 k1_t106 k1_t107) a + S1x16.size a ≤ S72x256.size a := fun i v1856 v1858 k1_hw11 k1_t106 k1_t107 => k1_hw11.2.2.1.2.2.2.2.2.2.2.2.2.2.2.2.2.2.2.2.2.2.2.2.2.2.2.2.2.2.2.1 k1_t106 k1_t107
theorem k1_off1457_inb : ∀ (i : grid1.Coords) (v1856 : BitVec 32) (v1858 : BitVec 32) (k1_hw11 : k1_chk11 i v1856 v1858) (k1_t106 : Fin (k1_t106_loop v1856 v1858).trips) (k1_t107 : Fin (k1_t107_loop v1856 v1858 k1_t106).trips), ∀ a, (k1_off1457 v1856 v1858 k1_t106 k1_t107) a + S1x16.size a ≤ S72x256.size a := fun i v1856 v1858 k1_hw11 k1_t106 k1_t107 => k1_hw11.2.2.1.2.2.2.2.2.2.2.2.2.2.2.2.2.2.2.2.2.2.2.2.2.2.2.2.2.2.2.2.1 k1_t106 k1_t107
theorem k1_off1458_inb : ∀ (i : grid1.Coords) (v1856 : BitVec 32) (v1858 : BitVec 32) (k1_hw11 : k1_chk11 i v1856 v1858) (k1_t106 : Fin (k1_t106_loop v1856 v1858).trips) (k1_t107 : Fin (k1_t107_loop v1856 v1858 k1_t106).trips), ∀ a, (k1_off1458 v1856 v1858 k1_t106 k1_t107) a + S1x16.size a ≤ S72x256.size a := fun i v1856 v1858 k1_hw11 k1_t106 k1_t107 => k1_hw11.2.2.1.2.2.2.2.2.2.2.2.2.2.2.2.2.2.2.2.2.2.2.2.2.2.2.2.2.2.2.2.2.1 k1_t106 k1_t107
theorem k1_t108_ok : ∀ (i : grid1.Coords) (v1856 : BitVec 32) (v1858 : BitVec 32) (k1_hw11 : k1_chk11 i v1856 v1858) (k1_t106 : Fin (k1_t106_loop v1856 v1858).trips), (k1_t108_loop v1856 v1858 k1_t106).OK := fun i v1856 v1858 k1_hw11 k1_t106 => k1_hw11.2.2.1.2.2.2.2.2.2.2.2.2.2.2.2.2.2.2.2.2.2.2.2.2.2.2.2.2.2.2.2.2.2.1 k1_t106
theorem k1_off1459_inb : ∀ (i : grid1.Coords) (v1856 : BitVec 32) (v1858 : BitVec 32) (k1_hw11 : k1_chk11 i v1856 v1858) (k1_t106 : Fin (k1_t106_loop v1856 v1858).trips) (k1_t108 : Fin (k1_t108_loop v1856 v1858 k1_t106).trips), ∀ a, (k1_off1459 v1856 v1858 k1_t106 k1_t108) a + S1x16.size a ≤ S72x256.size a := fun i v1856 v1858 k1_hw11 k1_t106 k1_t108 => k1_hw11.2.2.1.2.2.2.2.2.2.2.2.2.2.2.2.2.2.2.2.2.2.2.2.2.2.2.2.2.2.2.2.2.2.2 k1_t106 k1_t108
theorem k1_off1460_inb : ∀ (i : grid1.Coords) (v1856 : BitVec 32) (v1858 : BitVec 32) (k1_hw11 : k1_chk11 i v1856 v1858) (k1_t106 : Fin (k1_t106_loop v1856 v1858).trips) (k1_t108 : Fin (k1_t108_loop v1856 v1858 k1_t106).trips), ∀ a, (k1_off1460 v1856 v1858 k1_t106 k1_t108) a + S1x16.size a ≤ S72x256.size a := fun i v1856 v1858 k1_hw11 k1_t106 k1_t108 => k1_hw11.2.2.2.1.1 k1_t106 k1_t108
theorem k1_off1461_inb : ∀ (i : grid1.Coords) (v1856 : BitVec 32) (v1858 : BitVec 32) (k1_hw11 : k1_chk11 i v1856 v1858) (k1_t106 : Fin (k1_t106_loop v1856 v1858).trips) (k1_t108 : Fin (k1_t108_loop v1856 v1858 k1_t106).trips), ∀ a, (k1_off1461 v1856 v1858 k1_t106 k1_t108) a + S1x16.size a ≤ S72x256.size a := fun i v1856 v1858 k1_hw11 k1_t106 k1_t108 => k1_hw11.2.2.2.1.2.1 k1_t106 k1_t108
theorem k1_off1462_inb : ∀ (i : grid1.Coords) (v1856 : BitVec 32) (v1858 : BitVec 32) (k1_hw11 : k1_chk11 i v1856 v1858) (k1_t106 : Fin (k1_t106_loop v1856 v1858).trips) (k1_t108 : Fin (k1_t108_loop v1856 v1858 k1_t106).trips), ∀ a, (k1_off1462 v1856 v1858 k1_t106 k1_t108) a + S1x16.size a ≤ S72x256.size a := fun i v1856 v1858 k1_hw11 k1_t106 k1_t108 => k1_hw11.2.2.2.1.2.2.1 k1_t106 k1_t108
theorem k1_off1463_inb : ∀ (i : grid1.Coords) (v1856 : BitVec 32) (v1858 : BitVec 32) (k1_hw11 : k1_chk11 i v1856 v1858) (k1_t106 : Fin (k1_t106_loop v1856 v1858).trips) (k1_t108 : Fin (k1_t108_loop v1856 v1858 k1_t106).trips), ∀ a, (k1_off1463 v1856 v1858 k1_t106 k1_t108) a + S1x16.size a ≤ S72x256.size a := fun i v1856 v1858 k1_hw11 k1_t106 k1_t108 => k1_hw11.2.2.2.1.2.2.2.1 k1_t106 k1_t108
theorem k1_off1464_inb : ∀ (i : grid1.Coords) (v1856 : BitVec 32) (v1858 : BitVec 32) (k1_hw11 : k1_chk11 i v1856 v1858) (k1_t106 : Fin (k1_t106_loop v1856 v1858).trips) (k1_t108 : Fin (k1_t108_loop v1856 v1858 k1_t106).trips), ∀ a, (k1_off1464 v1856 v1858 k1_t106 k1_t108) a + S1x16.size a ≤ S72x256.size a := fun i v1856 v1858 k1_hw11 k1_t106 k1_t108 => k1_hw11.2.2.2.1.2.2.2.2.1 k1_t106 k1_t108
theorem k1_off1465_inb : ∀ (i : grid1.Coords) (v1856 : BitVec 32) (v1858 : BitVec 32) (k1_hw11 : k1_chk11 i v1856 v1858) (k1_t106 : Fin (k1_t106_loop v1856 v1858).trips) (k1_t108 : Fin (k1_t108_loop v1856 v1858 k1_t106).trips), ∀ a, (k1_off1465 v1856 v1858 k1_t106 k1_t108) a + S1x16.size a ≤ S72x256.size a := fun i v1856 v1858 k1_hw11 k1_t106 k1_t108 => k1_hw11.2.2.2.1.2.2.2.2.2.1 k1_t106 k1_t108
theorem k1_off1466_inb : ∀ (i : grid1.Coords) (v1856 : BitVec 32) (v1858 : BitVec 32) (k1_hw11 : k1_chk11 i v1856 v1858) (k1_t106 : Fin (k1_t106_loop v1856 v1858).trips) (k1_t108 : Fin (k1_t108_loop v1856 v1858 k1_t106).trips), ∀ a, (k1_off1466 v1856 v1858 k1_t106 k1_t108) a + S1x16.size a ≤ S72x256.size a := fun i v1856 v1858 k1_hw11 k1_t106 k1_t108 => k1_hw11.2.2.2.1.2.2.2.2.2.2.1 k1_t106 k1_t108
theorem k1_off1467_inb : ∀ (i : grid1.Coords) (v1856 : BitVec 32) (v1858 : BitVec 32) (k1_hw11 : k1_chk11 i v1856 v1858) (k1_t106 : Fin (k1_t106_loop v1856 v1858).trips) (k1_t108 : Fin (k1_t108_loop v1856 v1858 k1_t106).trips), ∀ a, (k1_off1467 v1856 v1858 k1_t106 k1_t108) a + S1x16.size a ≤ S72x256.size a := fun i v1856 v1858 k1_hw11 k1_t106 k1_t108 => k1_hw11.2.2.2.1.2.2.2.2.2.2.2.1 k1_t106 k1_t108
theorem k1_off1468_inb : ∀ (i : grid1.Coords) (v1856 : BitVec 32) (v1858 : BitVec 32) (k1_hw11 : k1_chk11 i v1856 v1858) (k1_t106 : Fin (k1_t106_loop v1856 v1858).trips) (k1_t108 : Fin (k1_t108_loop v1856 v1858 k1_t106).trips), ∀ a, (k1_off1468 v1856 v1858 k1_t106 k1_t108) a + S1x16.size a ≤ S72x256.size a := fun i v1856 v1858 k1_hw11 k1_t106 k1_t108 => k1_hw11.2.2.2.1.2.2.2.2.2.2.2.2.1 k1_t106 k1_t108
theorem k1_off1469_inb : ∀ (i : grid1.Coords) (v1856 : BitVec 32) (v1858 : BitVec 32) (k1_hw11 : k1_chk11 i v1856 v1858) (k1_t106 : Fin (k1_t106_loop v1856 v1858).trips) (k1_t108 : Fin (k1_t108_loop v1856 v1858 k1_t106).trips), ∀ a, (k1_off1469 v1856 v1858 k1_t106 k1_t108) a + S1x16.size a ≤ S72x256.size a := fun i v1856 v1858 k1_hw11 k1_t106 k1_t108 => k1_hw11.2.2.2.1.2.2.2.2.2.2.2.2.2.1 k1_t106 k1_t108
theorem k1_off1470_inb : ∀ (i : grid1.Coords) (v1856 : BitVec 32) (v1858 : BitVec 32) (k1_hw11 : k1_chk11 i v1856 v1858) (k1_t106 : Fin (k1_t106_loop v1856 v1858).trips) (k1_t108 : Fin (k1_t108_loop v1856 v1858 k1_t106).trips), ∀ a, (k1_off1470 v1856 v1858 k1_t106 k1_t108) a + S1x16.size a ≤ S72x256.size a := fun i v1856 v1858 k1_hw11 k1_t106 k1_t108 => k1_hw11.2.2.2.1.2.2.2.2.2.2.2.2.2.2.1 k1_t106 k1_t108
theorem k1_off1471_inb : ∀ (i : grid1.Coords) (v1856 : BitVec 32) (v1858 : BitVec 32) (k1_hw11 : k1_chk11 i v1856 v1858) (k1_t106 : Fin (k1_t106_loop v1856 v1858).trips) (k1_t108 : Fin (k1_t108_loop v1856 v1858 k1_t106).trips), ∀ a, (k1_off1471 v1856 v1858 k1_t106 k1_t108) a + S1x16.size a ≤ S72x256.size a := fun i v1856 v1858 k1_hw11 k1_t106 k1_t108 => k1_hw11.2.2.2.1.2.2.2.2.2.2.2.2.2.2.2.1 k1_t106 k1_t108
theorem k1_off1472_inb : ∀ (i : grid1.Coords) (v1856 : BitVec 32) (v1858 : BitVec 32) (k1_hw11 : k1_chk11 i v1856 v1858) (k1_t106 : Fin (k1_t106_loop v1856 v1858).trips) (k1_t108 : Fin (k1_t108_loop v1856 v1858 k1_t106).trips), ∀ a, (k1_off1472 v1856 v1858 k1_t106 k1_t108) a + S1x16.size a ≤ S72x256.size a := fun i v1856 v1858 k1_hw11 k1_t106 k1_t108 => k1_hw11.2.2.2.1.2.2.2.2.2.2.2.2.2.2.2.2.1 k1_t106 k1_t108
theorem k1_off1473_inb : ∀ (i : grid1.Coords) (v1856 : BitVec 32) (v1858 : BitVec 32) (k1_hw11 : k1_chk11 i v1856 v1858) (k1_t106 : Fin (k1_t106_loop v1856 v1858).trips) (k1_t108 : Fin (k1_t108_loop v1856 v1858 k1_t106).trips), ∀ a, (k1_off1473 v1856 v1858 k1_t106 k1_t108) a + S1x16.size a ≤ S72x256.size a := fun i v1856 v1858 k1_hw11 k1_t106 k1_t108 => k1_hw11.2.2.2.1.2.2.2.2.2.2.2.2.2.2.2.2.2.1 k1_t106 k1_t108
theorem k1_off1474_inb : ∀ (i : grid1.Coords) (v1856 : BitVec 32) (v1858 : BitVec 32) (k1_hw11 : k1_chk11 i v1856 v1858) (k1_t106 : Fin (k1_t106_loop v1856 v1858).trips) (k1_t108 : Fin (k1_t108_loop v1856 v1858 k1_t106).trips), ∀ a, (k1_off1474 v1856 v1858 k1_t106 k1_t108) a + S1x16.size a ≤ S72x256.size a := fun i v1856 v1858 k1_hw11 k1_t106 k1_t108 => k1_hw11.2.2.2.1.2.2.2.2.2.2.2.2.2.2.2.2.2.2.1 k1_t106 k1_t108
theorem k1_off1475_inb : ∀ (i : grid1.Coords) (v1856 : BitVec 32) (v1858 : BitVec 32) (k1_hw11 : k1_chk11 i v1856 v1858) (k1_t106 : Fin (k1_t106_loop v1856 v1858).trips), ∀ (k1_h98 : k1_cond98 v1856 v1858 k1_t106 = 1#1), ∀ a, (k1_off1475 i v1856 v1858 k1_t106) a + S72x256.size a ≤ S100000x512.size a := fun i v1856 v1858 k1_hw11 k1_t106 k1_h98 => k1_hw11.2.2.2.1.2.2.2.2.2.2.2.2.2.2.2.2.2.2.2.1 k1_t106 k1_h98
theorem k1_off1476_inb : ∀ (i : grid1.Coords) (v1856 : BitVec 32) (v1858 : BitVec 32) (k1_hw11 : k1_chk11 i v1856 v1858) (k1_t106 : Fin (k1_t106_loop v1856 v1858).trips), ∀ (k1_h98 : k1_cond98 v1856 v1858 k1_t106 = 1#1), ∀ (k1_h99 : k1_cond99 v1856 v1858 k1_t106 = 1#1), ∀ a, (k1_off1476 i v1856 v1858 k1_t106) a + S72x256.size a ≤ S100000x512.size a := fun i v1856 v1858 k1_hw11 k1_t106 k1_h98 k1_h99 => k1_hw11.2.2.2.1.2.2.2.2.2.2.2.2.2.2.2.2.2.2.2.2.1 k1_t106 k1_h98 k1_h99
theorem k1_t109_ok : ∀ (i : grid1.Coords) (v1856 : BitVec 32) (v1858 : BitVec 32) (k1_hw11 : k1_chk11 i v1856 v1858) (k1_t106 : Fin (k1_t106_loop v1856 v1858).trips), (k1_t109_loop v1856 v1858 k1_t106).OK := fun i v1856 v1858 k1_hw11 k1_t106 => k1_hw11.2.2.2.1.2.2.2.2.2.2.2.2.2.2.2.2.2.2.2.2.2.1 k1_t106
theorem k1_off1477_inb : ∀ (i : grid1.Coords) (v1856 : BitVec 32) (v1858 : BitVec 32) (k1_hw11 : k1_chk11 i v1856 v1858) (k1_t106 : Fin (k1_t106_loop v1856 v1858).trips) (k1_t109 : Fin (k1_t109_loop v1856 v1858 k1_t106).trips), ∀ a, (k1_off1477 v1856 v1858 k1_t106 k1_t109) a + S1x16.size a ≤ S72x256.size a := fun i v1856 v1858 k1_hw11 k1_t106 k1_t109 => k1_hw11.2.2.2.1.2.2.2.2.2.2.2.2.2.2.2.2.2.2.2.2.2.2.1 k1_t106 k1_t109
theorem k1_off1478_inb : ∀ (i : grid1.Coords) (v1856 : BitVec 32) (v1858 : BitVec 32) (k1_hw11 : k1_chk11 i v1856 v1858) (k1_t106 : Fin (k1_t106_loop v1856 v1858).trips) (k1_t109 : Fin (k1_t109_loop v1856 v1858 k1_t106).trips), ∀ a, (k1_off1478 v1856 v1858 k1_t106 k1_t109) a + S1x16.size a ≤ S72x256.size a := fun i v1856 v1858 k1_hw11 k1_t106 k1_t109 => k1_hw11.2.2.2.1.2.2.2.2.2.2.2.2.2.2.2.2.2.2.2.2.2.2.2.1 k1_t106 k1_t109
theorem k1_off1479_inb : ∀ (i : grid1.Coords) (v1856 : BitVec 32) (v1858 : BitVec 32) (k1_hw11 : k1_chk11 i v1856 v1858) (k1_t106 : Fin (k1_t106_loop v1856 v1858).trips) (k1_t109 : Fin (k1_t109_loop v1856 v1858 k1_t106).trips), ∀ a, (k1_off1479 v1856 v1858 k1_t106 k1_t109) a + S1x16.size a ≤ S72x256.size a := fun i v1856 v1858 k1_hw11 k1_t106 k1_t109 => k1_hw11.2.2.2.1.2.2.2.2.2.2.2.2.2.2.2.2.2.2.2.2.2.2.2.2.1 k1_t106 k1_t109
theorem k1_off1480_inb : ∀ (i : grid1.Coords) (v1856 : BitVec 32) (v1858 : BitVec 32) (k1_hw11 : k1_chk11 i v1856 v1858) (k1_t106 : Fin (k1_t106_loop v1856 v1858).trips) (k1_t109 : Fin (k1_t109_loop v1856 v1858 k1_t106).trips), ∀ a, (k1_off1480 v1856 v1858 k1_t106 k1_t109) a + S1x16.size a ≤ S72x256.size a := fun i v1856 v1858 k1_hw11 k1_t106 k1_t109 => k1_hw11.2.2.2.1.2.2.2.2.2.2.2.2.2.2.2.2.2.2.2.2.2.2.2.2.2.1 k1_t106 k1_t109
theorem k1_off1481_inb : ∀ (i : grid1.Coords) (v1856 : BitVec 32) (v1858 : BitVec 32) (k1_hw11 : k1_chk11 i v1856 v1858) (k1_t106 : Fin (k1_t106_loop v1856 v1858).trips) (k1_t109 : Fin (k1_t109_loop v1856 v1858 k1_t106).trips), ∀ a, (k1_off1481 v1856 v1858 k1_t106 k1_t109) a + S1x16.size a ≤ S72x256.size a := fun i v1856 v1858 k1_hw11 k1_t106 k1_t109 => k1_hw11.2.2.2.1.2.2.2.2.2.2.2.2.2.2.2.2.2.2.2.2.2.2.2.2.2.2.1 k1_t106 k1_t109
theorem k1_off1482_inb : ∀ (i : grid1.Coords) (v1856 : BitVec 32) (v1858 : BitVec 32) (k1_hw11 : k1_chk11 i v1856 v1858) (k1_t106 : Fin (k1_t106_loop v1856 v1858).trips) (k1_t109 : Fin (k1_t109_loop v1856 v1858 k1_t106).trips), ∀ a, (k1_off1482 v1856 v1858 k1_t106 k1_t109) a + S1x16.size a ≤ S72x256.size a := fun i v1856 v1858 k1_hw11 k1_t106 k1_t109 => k1_hw11.2.2.2.1.2.2.2.2.2.2.2.2.2.2.2.2.2.2.2.2.2.2.2.2.2.2.2.1 k1_t106 k1_t109
theorem k1_off1483_inb : ∀ (i : grid1.Coords) (v1856 : BitVec 32) (v1858 : BitVec 32) (k1_hw11 : k1_chk11 i v1856 v1858) (k1_t106 : Fin (k1_t106_loop v1856 v1858).trips) (k1_t109 : Fin (k1_t109_loop v1856 v1858 k1_t106).trips), ∀ a, (k1_off1483 v1856 v1858 k1_t106 k1_t109) a + S1x16.size a ≤ S72x256.size a := fun i v1856 v1858 k1_hw11 k1_t106 k1_t109 => k1_hw11.2.2.2.1.2.2.2.2.2.2.2.2.2.2.2.2.2.2.2.2.2.2.2.2.2.2.2.2.1 k1_t106 k1_t109
theorem k1_off1484_inb : ∀ (i : grid1.Coords) (v1856 : BitVec 32) (v1858 : BitVec 32) (k1_hw11 : k1_chk11 i v1856 v1858) (k1_t106 : Fin (k1_t106_loop v1856 v1858).trips) (k1_t109 : Fin (k1_t109_loop v1856 v1858 k1_t106).trips), ∀ a, (k1_off1484 v1856 v1858 k1_t106 k1_t109) a + S1x16.size a ≤ S72x256.size a := fun i v1856 v1858 k1_hw11 k1_t106 k1_t109 => k1_hw11.2.2.2.1.2.2.2.2.2.2.2.2.2.2.2.2.2.2.2.2.2.2.2.2.2.2.2.2.2.1 k1_t106 k1_t109
theorem k1_off1485_inb : ∀ (i : grid1.Coords) (v1856 : BitVec 32) (v1858 : BitVec 32) (k1_hw11 : k1_chk11 i v1856 v1858) (k1_t106 : Fin (k1_t106_loop v1856 v1858).trips) (k1_t109 : Fin (k1_t109_loop v1856 v1858 k1_t106).trips), ∀ a, (k1_off1485 v1856 v1858 k1_t106 k1_t109) a + S1x16.size a ≤ S72x256.size a := fun i v1856 v1858 k1_hw11 k1_t106 k1_t109 => k1_hw11.2.2.2.1.2.2.2.2.2.2.2.2.2.2.2.2.2.2.2.2.2.2.2.2.2.2.2.2.2.2.1 k1_t106 k1_t109
theorem k1_off1486_inb : ∀ (i : grid1.Coords) (v1856 : BitVec 32) (v1858 : BitVec 32) (k1_hw11 : k1_chk11 i v1856 v1858) (k1_t106 : Fin (k1_t106_loop v1856 v1858).trips) (k1_t109 : Fin (k1_t109_loop v1856 v1858 k1_t106).trips), ∀ a, (k1_off1486 v1856 v1858 k1_t106 k1_t109) a + S1x16.size a ≤ S72x256.size a := fun i v1856 v1858 k1_hw11 k1_t106 k1_t109 => k1_hw11.2.2.2.1.2.2.2.2.2.2.2.2.2.2.2.2.2.2.2.2.2.2.2.2.2.2.2.2.2.2.2.1 k1_t106 k1_t109
theorem k1_off1487_inb : ∀ (i : grid1.Coords) (v1856 : BitVec 32) (v1858 : BitVec 32) (k1_hw11 : k1_chk11 i v1856 v1858) (k1_t106 : Fin (k1_t106_loop v1856 v1858).trips) (k1_t109 : Fin (k1_t109_loop v1856 v1858 k1_t106).trips), ∀ a, (k1_off1487 v1856 v1858 k1_t106 k1_t109) a + S1x16.size a ≤ S72x256.size a := fun i v1856 v1858 k1_hw11 k1_t106 k1_t109 => k1_hw11.2.2.2.1.2.2.2.2.2.2.2.2.2.2.2.2.2.2.2.2.2.2.2.2.2.2.2.2.2.2.2.2.1 k1_t106 k1_t109
theorem k1_off1488_inb : ∀ (i : grid1.Coords) (v1856 : BitVec 32) (v1858 : BitVec 32) (k1_hw11 : k1_chk11 i v1856 v1858) (k1_t106 : Fin (k1_t106_loop v1856 v1858).trips) (k1_t109 : Fin (k1_t109_loop v1856 v1858 k1_t106).trips), ∀ a, (k1_off1488 v1856 v1858 k1_t106 k1_t109) a + S1x16.size a ≤ S72x256.size a := fun i v1856 v1858 k1_hw11 k1_t106 k1_t109 => k1_hw11.2.2.2.1.2.2.2.2.2.2.2.2.2.2.2.2.2.2.2.2.2.2.2.2.2.2.2.2.2.2.2.2.2.1 k1_t106 k1_t109
theorem k1_off1489_inb : ∀ (i : grid1.Coords) (v1856 : BitVec 32) (v1858 : BitVec 32) (k1_hw11 : k1_chk11 i v1856 v1858) (k1_t106 : Fin (k1_t106_loop v1856 v1858).trips) (k1_t109 : Fin (k1_t109_loop v1856 v1858 k1_t106).trips), ∀ a, (k1_off1489 v1856 v1858 k1_t106 k1_t109) a + S1x16.size a ≤ S72x256.size a := fun i v1856 v1858 k1_hw11 k1_t106 k1_t109 => k1_hw11.2.2.2.1.2.2.2.2.2.2.2.2.2.2.2.2.2.2.2.2.2.2.2.2.2.2.2.2.2.2.2.2.2.2.1 k1_t106 k1_t109
theorem k1_off1490_inb : ∀ (i : grid1.Coords) (v1856 : BitVec 32) (v1858 : BitVec 32) (k1_hw11 : k1_chk11 i v1856 v1858) (k1_t106 : Fin (k1_t106_loop v1856 v1858).trips) (k1_t109 : Fin (k1_t109_loop v1856 v1858 k1_t106).trips), ∀ a, (k1_off1490 v1856 v1858 k1_t106 k1_t109) a + S1x16.size a ≤ S72x256.size a := fun i v1856 v1858 k1_hw11 k1_t106 k1_t109 => k1_hw11.2.2.2.1.2.2.2.2.2.2.2.2.2.2.2.2.2.2.2.2.2.2.2.2.2.2.2.2.2.2.2.2.2.2.2 k1_t106 k1_t109
theorem k1_off1491_inb : ∀ (i : grid1.Coords) (v1856 : BitVec 32) (v1858 : BitVec 32) (k1_hw11 : k1_chk11 i v1856 v1858) (k1_t106 : Fin (k1_t106_loop v1856 v1858).trips) (k1_t109 : Fin (k1_t109_loop v1856 v1858 k1_t106).trips), ∀ a, (k1_off1491 v1856 v1858 k1_t106 k1_t109) a + S1x16.size a ≤ S72x256.size a := fun i v1856 v1858 k1_hw11 k1_t106 k1_t109 => k1_hw11.2.2.2.2.1 k1_t106 k1_t109
theorem k1_off1492_inb : ∀ (i : grid1.Coords) (v1856 : BitVec 32) (v1858 : BitVec 32) (k1_hw11 : k1_chk11 i v1856 v1858) (k1_t106 : Fin (k1_t106_loop v1856 v1858).trips) (k1_t109 : Fin (k1_t109_loop v1856 v1858 k1_t106).trips), ∀ a, (k1_off1492 v1856 v1858 k1_t106 k1_t109) a + S1x16.size a ≤ S72x256.size a := fun i v1856 v1858 k1_hw11 k1_t106 k1_t109 => k1_hw11.2.2.2.2.2.1 k1_t106 k1_t109
theorem k1_t110_ok : ∀ (i : grid1.Coords) (v1856 : BitVec 32) (v1858 : BitVec 32) (k1_hw11 : k1_chk11 i v1856 v1858) (k1_t106 : Fin (k1_t106_loop v1856 v1858).trips), (k1_t110_loop v1856 v1858 k1_t106).OK := fun i v1856 v1858 k1_hw11 k1_t106 => k1_hw11.2.2.2.2.2.2.1 k1_t106
theorem k1_off1493_inb : ∀ (i : grid1.Coords) (v1856 : BitVec 32) (v1858 : BitVec 32) (k1_hw11 : k1_chk11 i v1856 v1858) (k1_t106 : Fin (k1_t106_loop v1856 v1858).trips) (k1_t110 : Fin (k1_t110_loop v1856 v1858 k1_t106).trips), ∀ a, (k1_off1493 v1856 v1858 k1_t106 k1_t110) a + S1x16.size a ≤ S72x256.size a := fun i v1856 v1858 k1_hw11 k1_t106 k1_t110 => k1_hw11.2.2.2.2.2.2.2.1 k1_t106 k1_t110
theorem k1_off1494_inb : ∀ (i : grid1.Coords) (v1856 : BitVec 32) (v1858 : BitVec 32) (k1_hw11 : k1_chk11 i v1856 v1858) (k1_t106 : Fin (k1_t106_loop v1856 v1858).trips) (k1_t110 : Fin (k1_t110_loop v1856 v1858 k1_t106).trips), ∀ a, (k1_off1494 v1856 v1858 k1_t106 k1_t110) a + S1x16.size a ≤ S72x256.size a := fun i v1856 v1858 k1_hw11 k1_t106 k1_t110 => k1_hw11.2.2.2.2.2.2.2.2.1 k1_t106 k1_t110
theorem k1_off1495_inb : ∀ (i : grid1.Coords) (v1856 : BitVec 32) (v1858 : BitVec 32) (k1_hw11 : k1_chk11 i v1856 v1858) (k1_t106 : Fin (k1_t106_loop v1856 v1858).trips) (k1_t110 : Fin (k1_t110_loop v1856 v1858 k1_t106).trips), ∀ a, (k1_off1495 v1856 v1858 k1_t106 k1_t110) a + S1x16.size a ≤ S72x256.size a := fun i v1856 v1858 k1_hw11 k1_t106 k1_t110 => k1_hw11.2.2.2.2.2.2.2.2.2.1 k1_t106 k1_t110
theorem k1_off1496_inb : ∀ (i : grid1.Coords) (v1856 : BitVec 32) (v1858 : BitVec 32) (k1_hw11 : k1_chk11 i v1856 v1858) (k1_t106 : Fin (k1_t106_loop v1856 v1858).trips) (k1_t110 : Fin (k1_t110_loop v1856 v1858 k1_t106).trips), ∀ a, (k1_off1496 v1856 v1858 k1_t106 k1_t110) a + S1x16.size a ≤ S72x256.size a := fun i v1856 v1858 k1_hw11 k1_t106 k1_t110 => k1_hw11.2.2.2.2.2.2.2.2.2.2.1 k1_t106 k1_t110
theorem k1_off1497_inb : ∀ (i : grid1.Coords) (v1856 : BitVec 32) (v1858 : BitVec 32) (k1_hw11 : k1_chk11 i v1856 v1858) (k1_t106 : Fin (k1_t106_loop v1856 v1858).trips) (k1_t110 : Fin (k1_t110_loop v1856 v1858 k1_t106).trips), ∀ a, (k1_off1497 v1856 v1858 k1_t106 k1_t110) a + S1x16.size a ≤ S72x256.size a := fun i v1856 v1858 k1_hw11 k1_t106 k1_t110 => k1_hw11.2.2.2.2.2.2.2.2.2.2.2.1 k1_t106 k1_t110
theorem k1_off1498_inb : ∀ (i : grid1.Coords) (v1856 : BitVec 32) (v1858 : BitVec 32) (k1_hw11 : k1_chk11 i v1856 v1858) (k1_t106 : Fin (k1_t106_loop v1856 v1858).trips) (k1_t110 : Fin (k1_t110_loop v1856 v1858 k1_t106).trips), ∀ a, (k1_off1498 v1856 v1858 k1_t106 k1_t110) a + S1x16.size a ≤ S72x256.size a := fun i v1856 v1858 k1_hw11 k1_t106 k1_t110 => k1_hw11.2.2.2.2.2.2.2.2.2.2.2.2.1 k1_t106 k1_t110
theorem k1_off1499_inb : ∀ (i : grid1.Coords) (v1856 : BitVec 32) (v1858 : BitVec 32) (k1_hw11 : k1_chk11 i v1856 v1858) (k1_t106 : Fin (k1_t106_loop v1856 v1858).trips) (k1_t110 : Fin (k1_t110_loop v1856 v1858 k1_t106).trips), ∀ a, (k1_off1499 v1856 v1858 k1_t106 k1_t110) a + S1x16.size a ≤ S72x256.size a := fun i v1856 v1858 k1_hw11 k1_t106 k1_t110 => k1_hw11.2.2.2.2.2.2.2.2.2.2.2.2.2.1 k1_t106 k1_t110
theorem k1_off1500_inb : ∀ (i : grid1.Coords) (v1856 : BitVec 32) (v1858 : BitVec 32) (k1_hw11 : k1_chk11 i v1856 v1858) (k1_t106 : Fin (k1_t106_loop v1856 v1858).trips) (k1_t110 : Fin (k1_t110_loop v1856 v1858 k1_t106).trips), ∀ a, (k1_off1500 v1856 v1858 k1_t106 k1_t110) a + S1x16.size a ≤ S72x256.size a := fun i v1856 v1858 k1_hw11 k1_t106 k1_t110 => k1_hw11.2.2.2.2.2.2.2.2.2.2.2.2.2.2.1 k1_t106 k1_t110
theorem k1_off1501_inb : ∀ (i : grid1.Coords) (v1856 : BitVec 32) (v1858 : BitVec 32) (k1_hw11 : k1_chk11 i v1856 v1858) (k1_t106 : Fin (k1_t106_loop v1856 v1858).trips) (k1_t110 : Fin (k1_t110_loop v1856 v1858 k1_t106).trips), ∀ a, (k1_off1501 v1856 v1858 k1_t106 k1_t110) a + S1x16.size a ≤ S72x256.size a := fun i v1856 v1858 k1_hw11 k1_t106 k1_t110 => k1_hw11.2.2.2.2.2.2.2.2.2.2.2.2.2.2.2.1 k1_t106 k1_t110
theorem k1_off1502_inb : ∀ (i : grid1.Coords) (v1856 : BitVec 32) (v1858 : BitVec 32) (k1_hw11 : k1_chk11 i v1856 v1858) (k1_t106 : Fin (k1_t106_loop v1856 v1858).trips) (k1_t110 : Fin (k1_t110_loop v1856 v1858 k1_t106).trips), ∀ a, (k1_off1502 v1856 v1858 k1_t106 k1_t110) a + S1x16.size a ≤ S72x256.size a := fun i v1856 v1858 k1_hw11 k1_t106 k1_t110 => k1_hw11.2.2.2.2.2.2.2.2.2.2.2.2.2.2.2.2.1 k1_t106 k1_t110
theorem k1_off1503_inb : ∀ (i : grid1.Coords) (v1856 : BitVec 32) (v1858 : BitVec 32) (k1_hw11 : k1_chk11 i v1856 v1858) (k1_t106 : Fin (k1_t106_loop v1856 v1858).trips) (k1_t110 : Fin (k1_t110_loop v1856 v1858 k1_t106).trips), ∀ a, (k1_off1503 v1856 v1858 k1_t106 k1_t110) a + S1x16.size a ≤ S72x256.size a := fun i v1856 v1858 k1_hw11 k1_t106 k1_t110 => k1_hw11.2.2.2.2.2.2.2.2.2.2.2.2.2.2.2.2.2.1 k1_t106 k1_t110
theorem k1_off1504_inb : ∀ (i : grid1.Coords) (v1856 : BitVec 32) (v1858 : BitVec 32) (k1_hw11 : k1_chk11 i v1856 v1858) (k1_t106 : Fin (k1_t106_loop v1856 v1858).trips) (k1_t110 : Fin (k1_t110_loop v1856 v1858 k1_t106).trips), ∀ a, (k1_off1504 v1856 v1858 k1_t106 k1_t110) a + S1x16.size a ≤ S72x256.size a := fun i v1856 v1858 k1_hw11 k1_t106 k1_t110 => k1_hw11.2.2.2.2.2.2.2.2.2.2.2.2.2.2.2.2.2.2.1 k1_t106 k1_t110
theorem k1_off1505_inb : ∀ (i : grid1.Coords) (v1856 : BitVec 32) (v1858 : BitVec 32) (k1_hw11 : k1_chk11 i v1856 v1858) (k1_t106 : Fin (k1_t106_loop v1856 v1858).trips) (k1_t110 : Fin (k1_t110_loop v1856 v1858 k1_t106).trips), ∀ a, (k1_off1505 v1856 v1858 k1_t106 k1_t110) a + S1x16.size a ≤ S72x256.size a := fun i v1856 v1858 k1_hw11 k1_t106 k1_t110 => k1_hw11.2.2.2.2.2.2.2.2.2.2.2.2.2.2.2.2.2.2.2.1 k1_t106 k1_t110
theorem k1_off1506_inb : ∀ (i : grid1.Coords) (v1856 : BitVec 32) (v1858 : BitVec 32) (k1_hw11 : k1_chk11 i v1856 v1858) (k1_t106 : Fin (k1_t106_loop v1856 v1858).trips) (k1_t110 : Fin (k1_t110_loop v1856 v1858 k1_t106).trips), ∀ a, (k1_off1506 v1856 v1858 k1_t106 k1_t110) a + S1x16.size a ≤ S72x256.size a := fun i v1856 v1858 k1_hw11 k1_t106 k1_t110 => k1_hw11.2.2.2.2.2.2.2.2.2.2.2.2.2.2.2.2.2.2.2.2.1 k1_t106 k1_t110
theorem k1_off1507_inb : ∀ (i : grid1.Coords) (v1856 : BitVec 32) (v1858 : BitVec 32) (k1_hw11 : k1_chk11 i v1856 v1858) (k1_t106 : Fin (k1_t106_loop v1856 v1858).trips) (k1_t110 : Fin (k1_t110_loop v1856 v1858 k1_t106).trips), ∀ a, (k1_off1507 v1856 v1858 k1_t106 k1_t110) a + S1x16.size a ≤ S72x256.size a := fun i v1856 v1858 k1_hw11 k1_t106 k1_t110 => k1_hw11.2.2.2.2.2.2.2.2.2.2.2.2.2.2.2.2.2.2.2.2.2.1 k1_t106 k1_t110
theorem k1_off1508_inb : ∀ (i : grid1.Coords) (v1856 : BitVec 32) (v1858 : BitVec 32) (k1_hw11 : k1_chk11 i v1856 v1858) (k1_t106 : Fin (k1_t106_loop v1856 v1858).trips) (k1_t110 : Fin (k1_t110_loop v1856 v1858 k1_t106).trips), ∀ a, (k1_off1508 v1856 v1858 k1_t106 k1_t110) a + S1x16.size a ≤ S72x256.size a := fun i v1856 v1858 k1_hw11 k1_t106 k1_t110 => k1_hw11.2.2.2.2.2.2.2.2.2.2.2.2.2.2.2.2.2.2.2.2.2.2 k1_t106 k1_t110

def k1_off1509 (i : grid1.Coords) (v2038 : BitVec 32) : Fin 2 → Nat :=
  let c0_i32_1408 : BitVec 32 := 0#32
  let v2949 : BitVec 32 := Scalar.addi v2038 c0_i32_1408
  let c0_i32_1410 : BitVec 32 := 0#32
  let v2951 : BitVec 1 := Scalar.cmpi .sgt v2949 c0_i32_1410
  let v2952 : BitVec 32 := Scalar.extui v2951
  let c0_i32_1411 : BitVec 32 := 0#32
  let v2953 : BitVec 1 := Scalar.cmpi .slt v2949 c0_i32_1411
  let v2954 : BitVec 32 := Scalar.extui v2953
  let v2955 : BitVec 32 := Scalar.subi v2952 v2954
  let c8_i32_1409 : BitVec 32 := 8#32
  let c0_i32_1412 : BitVec 32 := 0#32
  let v2956 : BitVec 1 := Scalar.cmpi .sgt c8_i32_1409 c0_i32_1412
  let v2957 : BitVec 32 := Scalar.extui v2956
  let c0_i32_1413 : BitVec 32 := 0#32
  let v2958 : BitVec 1 := Scalar.cmpi .slt c8_i32_1409 c0_i32_1413
  let v2959 : BitVec 32 := Scalar.extui v2958
  let v2960 : BitVec 32 := Scalar.subi v2957 v2959
  let v2961 : BitVec 1 := Scalar.cmpi .ne v2955 v2960
  let v2962 : BitVec 32 := Scalar.remsi v2949 c8_i32_1409
  let c0_i32_1414 : BitVec 32 := 0#32
  let v2963 : BitVec 1 := Scalar.cmpi .ne v2962 c0_i32_1414
  let v2964 : BitVec 1 := Scalar.andi v2961 v2963
  let v2950 : BitVec 32 := Scalar.divsi v2949 c8_i32_1409
  let c1_i32_1415 : BitVec 32 := 1#32
  let v2965 : BitVec 32 := Scalar.subi v2950 c1_i32_1415
  let v2966 : BitVec 32 := Scalar.select v2964 v2965 v2950
  let c8_i32_1416 : BitVec 32 := 8#32
  let v2967 : BitVec 32 := Scalar.muli v2966 c8_i32_1416
  let c99928_i32 : BitVec 32 := 99928#32
  let v2968 : BitVec 32 := Scalar.minsi v2967 c99928_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v2968.toNat, v29.toNat]
def k1_cond100 (v2038 : BitVec 32) (v2040 : BitVec 32) : BitVec 1 :=
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c0_i32_977 : BitVec 32 := 0#32
  let v2063 : BitVec 1 := Scalar.cmpi .sgt v2062 c0_i32_977
  let v2064 : BitVec 32 := Scalar.extui v2063
  let c0_i32_978 : BitVec 32 := 0#32
  let v2065 : BitVec 1 := Scalar.cmpi .ne v2064 c0_i32_978
  v2065

@[reducible] def k1_t111_loop (v2038 : BitVec 32) (v2040 : BitVec 32) : Scf.Loop 32 :=
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_989 : BitVec 32 := 1#32
  ⟨c0_i32_987, v2088, c1_i32_989⟩
def k1_off1510 (i : grid1.Coords) (v2038 : BitVec 32) (v2040 : BitVec 32) (k1_t111 : Fin (k1_t111_loop v2038 v2040).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1446 : BitVec 32 := 64#32
  let v3026 : BitVec 32 := Scalar.muli v2949 c64_i32_1446
  let v3027 : BitVec 32 := Scalar.addi v2038 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond101 (v2038 : BitVec 32) (v2040 : BitVec 32) (k1_t111 : Fin (k1_t111_loop v2038 v2040).trips) : BitVec 1 :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let v2950 : BitVec 1 := Scalar.cmpi .slt v2949 v2062
  let v2951 : BitVec 32 := Scalar.extui v2950
  let c0_i32_1409 : BitVec 32 := 0#32
  let v2952 : BitVec 1 := Scalar.cmpi .ne v2951 c0_i32_1409
  v2952

def k1_off1511 (i : grid1.Coords) (v2038 : BitVec 32) (v2040 : BitVec 32) (k1_t111 : Fin (k1_t111_loop v2038 v2040).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v2038 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]

variable {F : FTy → Type} [FloatOps F]

def k1_cond102 (v2038 : BitVec 32) (v2040 : BitVec 32) (k1_t111 : Fin (k1_t111_loop v2038 v2040).trips) : BitVec 1 :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c1_i32_1456 : BitVec 32 := 1#32
  let v3049 : BitVec 32 := Scalar.addi v2949 c1_i32_1456
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let v3050 : BitVec 1 := Scalar.cmpi .slt v3049 v2062
  let v3051 : BitVec 32 := Scalar.extui v3050
  let c0_i32_1457 : BitVec 32 := 0#32
  let v3052 : BitVec 1 := Scalar.cmpi .ne v3051 c0_i32_1457
  v3052

@[reducible] def k1_t112_loop (v2038 : BitVec 32) (v2040 : BitVec 32) (k1_t111 : Fin (k1_t111_loop v2038 v2040).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off1512 (v2038 : BitVec 32) (v2040 : BitVec 32) (k1_t111 : Fin (k1_t111_loop v2038 v2040).trips) (k1_t112 : Fin (k1_t112_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t112
  let v3026 : BitVec 32 := Scalar.addi v2976 arg46
  let v3027 : Index := Scalar.indexCast v3026
  let c0_1446 : Index := 0#32
  ![v3027.toNat, 0]
def k1_off1513 (v2038 : BitVec 32) (v2040 : BitVec 32) (k1_t111 : Fin (k1_t111_loop v2038 v2040).trips) (k1_t112 : Fin (k1_t112_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t112
  let v3026 : BitVec 32 := Scalar.addi v2976 arg46
  let v3032 : Index := Scalar.indexCast v3026
  let c16_1447 : Index := 16#32
  ![v3032.toNat, 16]
def k1_off1514 (v2038 : BitVec 32) (v2040 : BitVec 32) (k1_t111 : Fin (k1_t111_loop v2038 v2040).trips) (k1_t112 : Fin (k1_t112_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t112
  let v3026 : BitVec 32 := Scalar.addi v2976 arg46
  let v3037 : Index := Scalar.indexCast v3026
  let c32_1448 : Index := 32#32
  ![v3037.toNat, 32]
def k1_off1515 (v2038 : BitVec 32) (v2040 : BitVec 32) (k1_t111 : Fin (k1_t111_loop v2038 v2040).trips) (k1_t112 : Fin (k1_t112_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t112
  let v3026 : BitVec 32 := Scalar.addi v2976 arg46
  let v3042 : Index := Scalar.indexCast v3026
  let c48_1449 : Index := 48#32
  ![v3042.toNat, 48]
def k1_off1516 (v2038 : BitVec 32) (v2040 : BitVec 32) (k1_t111 : Fin (k1_t111_loop v2038 v2040).trips) (k1_t112 : Fin (k1_t112_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t112
  let v3026 : BitVec 32 := Scalar.addi v2976 arg46
  let v3047 : Index := Scalar.indexCast v3026
  let c64_1450 : Index := 64#32
  ![v3047.toNat, 64]
def k1_off1517 (v2038 : BitVec 32) (v2040 : BitVec 32) (k1_t111 : Fin (k1_t111_loop v2038 v2040).trips) (k1_t112 : Fin (k1_t112_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t112
  let v3026 : BitVec 32 := Scalar.addi v2976 arg46
  let v3052 : Index := Scalar.indexCast v3026
  let c80_1451 : Index := 80#32
  ![v3052.toNat, 80]
def k1_off1518 (v2038 : BitVec 32) (v2040 : BitVec 32) (k1_t111 : Fin (k1_t111_loop v2038 v2040).trips) (k1_t112 : Fin (k1_t112_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t112
  let v3026 : BitVec 32 := Scalar.addi v2976 arg46
  let v3057 : Index := Scalar.indexCast v3026
  let c96_1452 : Index := 96#32
  ![v3057.toNat, 96]
def k1_off1519 (v2038 : BitVec 32) (v2040 : BitVec 32) (k1_t111 : Fin (k1_t111_loop v2038 v2040).trips) (k1_t112 : Fin (k1_t112_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t112
  let v3026 : BitVec 32 := Scalar.addi v2976 arg46
  let v3062 : Index := Scalar.indexCast v3026
  let c112_1453 : Index := 112#32
  ![v3062.toNat, 112]
def k1_off1520 (v2038 : BitVec 32) (v2040 : BitVec 32) (k1_t111 : Fin (k1_t111_loop v2038 v2040).trips) (k1_t112 : Fin (k1_t112_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t112
  let v3026 : BitVec 32 := Scalar.addi v2976 arg46
  let v3067 : Index := Scalar.indexCast v3026
  let c128_1454 : Index := 128#32
  ![v3067.toNat, 128]
def k1_off1521 (v2038 : BitVec 32) (v2040 : BitVec 32) (k1_t111 : Fin (k1_t111_loop v2038 v2040).trips) (k1_t112 : Fin (k1_t112_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t112
  let v3026 : BitVec 32 := Scalar.addi v2976 arg46
  let v3072 : Index := Scalar.indexCast v3026
  let c144_1455 : Index := 144#32
  ![v3072.toNat, 144]
def k1_off1522 (v2038 : BitVec 32) (v2040 : BitVec 32) (k1_t111 : Fin (k1_t111_loop v2038 v2040).trips) (k1_t112 : Fin (k1_t112_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t112
  let v3026 : BitVec 32 := Scalar.addi v2976 arg46
  let v3077 : Index := Scalar.indexCast v3026
  let c160_1456 : Index := 160#32
  ![v3077.toNat, 160]
def k1_off1523 (v2038 : BitVec 32) (v2040 : BitVec 32) (k1_t111 : Fin (k1_t111_loop v2038 v2040).trips) (k1_t112 : Fin (k1_t112_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t112
  let v3026 : BitVec 32 := Scalar.addi v2976 arg46
  let v3082 : Index := Scalar.indexCast v3026
  let c176_1457 : Index := 176#32
  ![v3082.toNat, 176]
def k1_off1524 (v2038 : BitVec 32) (v2040 : BitVec 32) (k1_t111 : Fin (k1_t111_loop v2038 v2040).trips) (k1_t112 : Fin (k1_t112_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t112
  let v3026 : BitVec 32 := Scalar.addi v2976 arg46
  let v3087 : Index := Scalar.indexCast v3026
  let c192_1458 : Index := 192#32
  ![v3087.toNat, 192]
def k1_off1525 (v2038 : BitVec 32) (v2040 : BitVec 32) (k1_t111 : Fin (k1_t111_loop v2038 v2040).trips) (k1_t112 : Fin (k1_t112_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t112
  let v3026 : BitVec 32 := Scalar.addi v2976 arg46
  let v3092 : Index := Scalar.indexCast v3026
  let c208_1459 : Index := 208#32
  ![v3092.toNat, 208]
def k1_off1526 (v2038 : BitVec 32) (v2040 : BitVec 32) (k1_t111 : Fin (k1_t111_loop v2038 v2040).trips) (k1_t112 : Fin (k1_t112_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t112
  let v3026 : BitVec 32 := Scalar.addi v2976 arg46
  let v3097 : Index := Scalar.indexCast v3026
  let c224_1460 : Index := 224#32
  ![v3097.toNat, 224]
def k1_off1527 (v2038 : BitVec 32) (v2040 : BitVec 32) (k1_t111 : Fin (k1_t111_loop v2038 v2040).trips) (k1_t112 : Fin (k1_t112_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t112
  let v3026 : BitVec 32 := Scalar.addi v2976 arg46
  let v3102 : Index := Scalar.indexCast v3026
  let c240_1461 : Index := 240#32
  ![v3102.toNat, 240]
@[reducible] def k1_t113_loop (v2038 : BitVec 32) (v2040 : BitVec 32) (k1_t111 : Fin (k1_t111_loop v2038 v2040).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off1528 (v2038 : BitVec 32) (v2040 : BitVec 32) (k1_t111 : Fin (k1_t111_loop v2038 v2040).trips) (k1_t113 : Fin (k1_t113_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t113
  let v3026 : BitVec 32 := Scalar.addi v2976 arg46
  let v3027 : Index := Scalar.indexCast v3026
  let c0_1446 : Index := 0#32
  ![v3027.toNat, 0]
def k1_off1529 (v2038 : BitVec 32) (v2040 : BitVec 32) (k1_t111 : Fin (k1_t111_loop v2038 v2040).trips) (k1_t113 : Fin (k1_t113_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t113
  let v3026 : BitVec 32 := Scalar.addi v2976 arg46
  let v3032 : Index := Scalar.indexCast v3026
  let c16_1447 : Index := 16#32
  ![v3032.toNat, 16]
def k1_off1530 (v2038 : BitVec 32) (v2040 : BitVec 32) (k1_t111 : Fin (k1_t111_loop v2038 v2040).trips) (k1_t113 : Fin (k1_t113_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t113
  let v3026 : BitVec 32 := Scalar.addi v2976 arg46
  let v3037 : Index := Scalar.indexCast v3026
  let c32_1448 : Index := 32#32
  ![v3037.toNat, 32]
def k1_off1531 (v2038 : BitVec 32) (v2040 : BitVec 32) (k1_t111 : Fin (k1_t111_loop v2038 v2040).trips) (k1_t113 : Fin (k1_t113_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t113
  let v3026 : BitVec 32 := Scalar.addi v2976 arg46
  let v3042 : Index := Scalar.indexCast v3026
  let c48_1449 : Index := 48#32
  ![v3042.toNat, 48]
def k1_off1532 (v2038 : BitVec 32) (v2040 : BitVec 32) (k1_t111 : Fin (k1_t111_loop v2038 v2040).trips) (k1_t113 : Fin (k1_t113_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t113
  let v3026 : BitVec 32 := Scalar.addi v2976 arg46
  let v3047 : Index := Scalar.indexCast v3026
  let c64_1450 : Index := 64#32
  ![v3047.toNat, 64]
def k1_off1533 (v2038 : BitVec 32) (v2040 : BitVec 32) (k1_t111 : Fin (k1_t111_loop v2038 v2040).trips) (k1_t113 : Fin (k1_t113_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t113
  let v3026 : BitVec 32 := Scalar.addi v2976 arg46
  let v3052 : Index := Scalar.indexCast v3026
  let c80_1451 : Index := 80#32
  ![v3052.toNat, 80]
def k1_off1534 (v2038 : BitVec 32) (v2040 : BitVec 32) (k1_t111 : Fin (k1_t111_loop v2038 v2040).trips) (k1_t113 : Fin (k1_t113_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t113
  let v3026 : BitVec 32 := Scalar.addi v2976 arg46
  let v3057 : Index := Scalar.indexCast v3026
  let c96_1452 : Index := 96#32
  ![v3057.toNat, 96]
def k1_off1535 (v2038 : BitVec 32) (v2040 : BitVec 32) (k1_t111 : Fin (k1_t111_loop v2038 v2040).trips) (k1_t113 : Fin (k1_t113_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t113
  let v3026 : BitVec 32 := Scalar.addi v2976 arg46
  let v3062 : Index := Scalar.indexCast v3026
  let c112_1453 : Index := 112#32
  ![v3062.toNat, 112]
def k1_off1536 (v2038 : BitVec 32) (v2040 : BitVec 32) (k1_t111 : Fin (k1_t111_loop v2038 v2040).trips) (k1_t113 : Fin (k1_t113_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t113
  let v3026 : BitVec 32 := Scalar.addi v2976 arg46
  let v3067 : Index := Scalar.indexCast v3026
  let c128_1454 : Index := 128#32
  ![v3067.toNat, 128]
def k1_off1537 (v2038 : BitVec 32) (v2040 : BitVec 32) (k1_t111 : Fin (k1_t111_loop v2038 v2040).trips) (k1_t113 : Fin (k1_t113_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t113
  let v3026 : BitVec 32 := Scalar.addi v2976 arg46
  let v3072 : Index := Scalar.indexCast v3026
  let c144_1455 : Index := 144#32
  ![v3072.toNat, 144]
def k1_off1538 (v2038 : BitVec 32) (v2040 : BitVec 32) (k1_t111 : Fin (k1_t111_loop v2038 v2040).trips) (k1_t113 : Fin (k1_t113_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t113
  let v3026 : BitVec 32 := Scalar.addi v2976 arg46
  let v3077 : Index := Scalar.indexCast v3026
  let c160_1456 : Index := 160#32
  ![v3077.toNat, 160]
def k1_off1539 (v2038 : BitVec 32) (v2040 : BitVec 32) (k1_t111 : Fin (k1_t111_loop v2038 v2040).trips) (k1_t113 : Fin (k1_t113_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t113
  let v3026 : BitVec 32 := Scalar.addi v2976 arg46
  let v3082 : Index := Scalar.indexCast v3026
  let c176_1457 : Index := 176#32
  ![v3082.toNat, 176]
def k1_off1540 (v2038 : BitVec 32) (v2040 : BitVec 32) (k1_t111 : Fin (k1_t111_loop v2038 v2040).trips) (k1_t113 : Fin (k1_t113_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t113
  let v3026 : BitVec 32 := Scalar.addi v2976 arg46
  let v3087 : Index := Scalar.indexCast v3026
  let c192_1458 : Index := 192#32
  ![v3087.toNat, 192]
def k1_off1541 (v2038 : BitVec 32) (v2040 : BitVec 32) (k1_t111 : Fin (k1_t111_loop v2038 v2040).trips) (k1_t113 : Fin (k1_t113_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t113
  let v3026 : BitVec 32 := Scalar.addi v2976 arg46
  let v3092 : Index := Scalar.indexCast v3026
  let c208_1459 : Index := 208#32
  ![v3092.toNat, 208]
def k1_off1542 (v2038 : BitVec 32) (v2040 : BitVec 32) (k1_t111 : Fin (k1_t111_loop v2038 v2040).trips) (k1_t113 : Fin (k1_t113_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t113
  let v3026 : BitVec 32 := Scalar.addi v2976 arg46
  let v3097 : Index := Scalar.indexCast v3026
  let c224_1460 : Index := 224#32
  ![v3097.toNat, 224]
def k1_off1543 (v2038 : BitVec 32) (v2040 : BitVec 32) (k1_t111 : Fin (k1_t111_loop v2038 v2040).trips) (k1_t113 : Fin (k1_t113_loop v2038 v2040 k1_t111).trips) : Fin 2 → Nat :=
  let c2_i32_1408 : BitVec 32 := 2#32
  let c0_i32_987 : BitVec 32 := 0#32
  let c1_i32_989 : BitVec 32 := 1#32
  let arg13 : BitVec 32 := Scf.iv c0_i32_987 c1_i32_989 k1_t111
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t113
  let v3026 : BitVec 32 := Scalar.addi v2976 arg46
  let v3102 : Index := Scalar.indexCast v3026
  let c240_1461 : Index := 240#32
  ![v3102.toNat, 240]
def k1_off1544 (i : grid1.Coords) (v2038 : BitVec 32) (v2040 : BitVec 32) (k1_t111 : Fin (k1_t111_loop v2038 v2040).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v2038 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond103 (v2038 : BitVec 32) (v2040 : BitVec 32) (k1_t111 : Fin (k1_t111_loop v2038 v2040).trips) : BitVec 1 :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let v2989 : BitVec 1 := Scalar.cmpi .slt v2988 v2062
  let v2990 : BitVec 32 := Scalar.extui v2989
  let c0_i32_1428 : BitVec 32 := 0#32
  let v2991 : BitVec 1 := Scalar.cmpi .ne v2990 c0_i32_1428
  v2991

def k1_off1545 (i : grid1.Coords) (v2038 : BitVec 32) (v2040 : BitVec 32) (k1_t111 : Fin (k1_t111_loop v2038 v2040).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v2038 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond104 (v2038 : BitVec 32) (v2040 : BitVec 32) (k1_t111 : Fin (k1_t111_loop v2038 v2040).trips) : BitVec 1 :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let v3050 : BitVec 1 := Scalar.cmpi .slt v3049 v2062
  let v3051 : BitVec 32 := Scalar.extui v3050
  let c0_i32_1457 : BitVec 32 := 0#32
  let v3052 : BitVec 1 := Scalar.cmpi .ne v3051 c0_i32_1457
  v3052

@[reducible] def k1_t114_loop (v2038 : BitVec 32) (v2040 : BitVec 32) (k1_t111 : Fin (k1_t111_loop v2038 v2040).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off1546 (v2038 : BitVec 32) (v2040 : BitVec 32) (k1_t111 : Fin (k1_t111_loop v2038 v2040).trips) (k1_t114 : Fin (k1_t114_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t114
  let v3026 : BitVec 32 := Scalar.addi v3015 arg46
  let v3027 : Index := Scalar.indexCast v3026
  let c0_1446 : Index := 0#32
  ![v3027.toNat, 0]
def k1_off1547 (v2038 : BitVec 32) (v2040 : BitVec 32) (k1_t111 : Fin (k1_t111_loop v2038 v2040).trips) (k1_t114 : Fin (k1_t114_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t114
  let v3026 : BitVec 32 := Scalar.addi v3015 arg46
  let v3032 : Index := Scalar.indexCast v3026
  let c16_1447 : Index := 16#32
  ![v3032.toNat, 16]
def k1_off1548 (v2038 : BitVec 32) (v2040 : BitVec 32) (k1_t111 : Fin (k1_t111_loop v2038 v2040).trips) (k1_t114 : Fin (k1_t114_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t114
  let v3026 : BitVec 32 := Scalar.addi v3015 arg46
  let v3037 : Index := Scalar.indexCast v3026
  let c32_1448 : Index := 32#32
  ![v3037.toNat, 32]
def k1_off1549 (v2038 : BitVec 32) (v2040 : BitVec 32) (k1_t111 : Fin (k1_t111_loop v2038 v2040).trips) (k1_t114 : Fin (k1_t114_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t114
  let v3026 : BitVec 32 := Scalar.addi v3015 arg46
  let v3042 : Index := Scalar.indexCast v3026
  let c48_1449 : Index := 48#32
  ![v3042.toNat, 48]
def k1_off1550 (v2038 : BitVec 32) (v2040 : BitVec 32) (k1_t111 : Fin (k1_t111_loop v2038 v2040).trips) (k1_t114 : Fin (k1_t114_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t114
  let v3026 : BitVec 32 := Scalar.addi v3015 arg46
  let v3047 : Index := Scalar.indexCast v3026
  let c64_1450 : Index := 64#32
  ![v3047.toNat, 64]
def k1_off1551 (v2038 : BitVec 32) (v2040 : BitVec 32) (k1_t111 : Fin (k1_t111_loop v2038 v2040).trips) (k1_t114 : Fin (k1_t114_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t114
  let v3026 : BitVec 32 := Scalar.addi v3015 arg46
  let v3052 : Index := Scalar.indexCast v3026
  let c80_1451 : Index := 80#32
  ![v3052.toNat, 80]
def k1_off1552 (v2038 : BitVec 32) (v2040 : BitVec 32) (k1_t111 : Fin (k1_t111_loop v2038 v2040).trips) (k1_t114 : Fin (k1_t114_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t114
  let v3026 : BitVec 32 := Scalar.addi v3015 arg46
  let v3057 : Index := Scalar.indexCast v3026
  let c96_1452 : Index := 96#32
  ![v3057.toNat, 96]
def k1_off1553 (v2038 : BitVec 32) (v2040 : BitVec 32) (k1_t111 : Fin (k1_t111_loop v2038 v2040).trips) (k1_t114 : Fin (k1_t114_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t114
  let v3026 : BitVec 32 := Scalar.addi v3015 arg46
  let v3062 : Index := Scalar.indexCast v3026
  let c112_1453 : Index := 112#32
  ![v3062.toNat, 112]
def k1_off1554 (v2038 : BitVec 32) (v2040 : BitVec 32) (k1_t111 : Fin (k1_t111_loop v2038 v2040).trips) (k1_t114 : Fin (k1_t114_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t114
  let v3026 : BitVec 32 := Scalar.addi v3015 arg46
  let v3067 : Index := Scalar.indexCast v3026
  let c128_1454 : Index := 128#32
  ![v3067.toNat, 128]
def k1_off1555 (v2038 : BitVec 32) (v2040 : BitVec 32) (k1_t111 : Fin (k1_t111_loop v2038 v2040).trips) (k1_t114 : Fin (k1_t114_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t114
  let v3026 : BitVec 32 := Scalar.addi v3015 arg46
  let v3072 : Index := Scalar.indexCast v3026
  let c144_1455 : Index := 144#32
  ![v3072.toNat, 144]
def k1_off1556 (v2038 : BitVec 32) (v2040 : BitVec 32) (k1_t111 : Fin (k1_t111_loop v2038 v2040).trips) (k1_t114 : Fin (k1_t114_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t114
  let v3026 : BitVec 32 := Scalar.addi v3015 arg46
  let v3077 : Index := Scalar.indexCast v3026
  let c160_1456 : Index := 160#32
  ![v3077.toNat, 160]
def k1_off1557 (v2038 : BitVec 32) (v2040 : BitVec 32) (k1_t111 : Fin (k1_t111_loop v2038 v2040).trips) (k1_t114 : Fin (k1_t114_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t114
  let v3026 : BitVec 32 := Scalar.addi v3015 arg46
  let v3082 : Index := Scalar.indexCast v3026
  let c176_1457 : Index := 176#32
  ![v3082.toNat, 176]
def k1_off1558 (v2038 : BitVec 32) (v2040 : BitVec 32) (k1_t111 : Fin (k1_t111_loop v2038 v2040).trips) (k1_t114 : Fin (k1_t114_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t114
  let v3026 : BitVec 32 := Scalar.addi v3015 arg46
  let v3087 : Index := Scalar.indexCast v3026
  let c192_1458 : Index := 192#32
  ![v3087.toNat, 192]
def k1_off1559 (v2038 : BitVec 32) (v2040 : BitVec 32) (k1_t111 : Fin (k1_t111_loop v2038 v2040).trips) (k1_t114 : Fin (k1_t114_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t114
  let v3026 : BitVec 32 := Scalar.addi v3015 arg46
  let v3092 : Index := Scalar.indexCast v3026
  let c208_1459 : Index := 208#32
  ![v3092.toNat, 208]
def k1_off1560 (v2038 : BitVec 32) (v2040 : BitVec 32) (k1_t111 : Fin (k1_t111_loop v2038 v2040).trips) (k1_t114 : Fin (k1_t114_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t114
  let v3026 : BitVec 32 := Scalar.addi v3015 arg46
  let v3097 : Index := Scalar.indexCast v3026
  let c224_1460 : Index := 224#32
  ![v3097.toNat, 224]
def k1_off1561 (v2038 : BitVec 32) (v2040 : BitVec 32) (k1_t111 : Fin (k1_t111_loop v2038 v2040).trips) (k1_t114 : Fin (k1_t114_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t114
  let v3026 : BitVec 32 := Scalar.addi v3015 arg46
  let v3102 : Index := Scalar.indexCast v3026
  let c240_1461 : Index := 240#32
  ![v3102.toNat, 240]
@[reducible] def k1_t115_loop (v2038 : BitVec 32) (v2040 : BitVec 32) (k1_t111 : Fin (k1_t111_loop v2038 v2040).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off1562 (v2038 : BitVec 32) (v2040 : BitVec 32) (k1_t111 : Fin (k1_t111_loop v2038 v2040).trips) (k1_t115 : Fin (k1_t115_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t115
  let v3026 : BitVec 32 := Scalar.addi v3015 arg46
  let v3027 : Index := Scalar.indexCast v3026
  let c0_1446 : Index := 0#32
  ![v3027.toNat, 0]
def k1_off1563 (v2038 : BitVec 32) (v2040 : BitVec 32) (k1_t111 : Fin (k1_t111_loop v2038 v2040).trips) (k1_t115 : Fin (k1_t115_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t115
  let v3026 : BitVec 32 := Scalar.addi v3015 arg46
  let v3032 : Index := Scalar.indexCast v3026
  let c16_1447 : Index := 16#32
  ![v3032.toNat, 16]
def k1_off1564 (v2038 : BitVec 32) (v2040 : BitVec 32) (k1_t111 : Fin (k1_t111_loop v2038 v2040).trips) (k1_t115 : Fin (k1_t115_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t115
  let v3026 : BitVec 32 := Scalar.addi v3015 arg46
  let v3037 : Index := Scalar.indexCast v3026
  let c32_1448 : Index := 32#32
  ![v3037.toNat, 32]
def k1_off1565 (v2038 : BitVec 32) (v2040 : BitVec 32) (k1_t111 : Fin (k1_t111_loop v2038 v2040).trips) (k1_t115 : Fin (k1_t115_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t115
  let v3026 : BitVec 32 := Scalar.addi v3015 arg46
  let v3042 : Index := Scalar.indexCast v3026
  let c48_1449 : Index := 48#32
  ![v3042.toNat, 48]
def k1_off1566 (v2038 : BitVec 32) (v2040 : BitVec 32) (k1_t111 : Fin (k1_t111_loop v2038 v2040).trips) (k1_t115 : Fin (k1_t115_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t115
  let v3026 : BitVec 32 := Scalar.addi v3015 arg46
  let v3047 : Index := Scalar.indexCast v3026
  let c64_1450 : Index := 64#32
  ![v3047.toNat, 64]
def k1_off1567 (v2038 : BitVec 32) (v2040 : BitVec 32) (k1_t111 : Fin (k1_t111_loop v2038 v2040).trips) (k1_t115 : Fin (k1_t115_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t115
  let v3026 : BitVec 32 := Scalar.addi v3015 arg46
  let v3052 : Index := Scalar.indexCast v3026
  let c80_1451 : Index := 80#32
  ![v3052.toNat, 80]
def k1_off1568 (v2038 : BitVec 32) (v2040 : BitVec 32) (k1_t111 : Fin (k1_t111_loop v2038 v2040).trips) (k1_t115 : Fin (k1_t115_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t115
  let v3026 : BitVec 32 := Scalar.addi v3015 arg46
  let v3057 : Index := Scalar.indexCast v3026
  let c96_1452 : Index := 96#32
  ![v3057.toNat, 96]
def k1_off1569 (v2038 : BitVec 32) (v2040 : BitVec 32) (k1_t111 : Fin (k1_t111_loop v2038 v2040).trips) (k1_t115 : Fin (k1_t115_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t115
  let v3026 : BitVec 32 := Scalar.addi v3015 arg46
  let v3062 : Index := Scalar.indexCast v3026
  let c112_1453 : Index := 112#32
  ![v3062.toNat, 112]
def k1_off1570 (v2038 : BitVec 32) (v2040 : BitVec 32) (k1_t111 : Fin (k1_t111_loop v2038 v2040).trips) (k1_t115 : Fin (k1_t115_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t115
  let v3026 : BitVec 32 := Scalar.addi v3015 arg46
  let v3067 : Index := Scalar.indexCast v3026
  let c128_1454 : Index := 128#32
  ![v3067.toNat, 128]
def k1_off1571 (v2038 : BitVec 32) (v2040 : BitVec 32) (k1_t111 : Fin (k1_t111_loop v2038 v2040).trips) (k1_t115 : Fin (k1_t115_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t115
  let v3026 : BitVec 32 := Scalar.addi v3015 arg46
  let v3072 : Index := Scalar.indexCast v3026
  let c144_1455 : Index := 144#32
  ![v3072.toNat, 144]
def k1_off1572 (v2038 : BitVec 32) (v2040 : BitVec 32) (k1_t111 : Fin (k1_t111_loop v2038 v2040).trips) (k1_t115 : Fin (k1_t115_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t115
  let v3026 : BitVec 32 := Scalar.addi v3015 arg46
  let v3077 : Index := Scalar.indexCast v3026
  let c160_1456 : Index := 160#32
  ![v3077.toNat, 160]
def k1_off1573 (v2038 : BitVec 32) (v2040 : BitVec 32) (k1_t111 : Fin (k1_t111_loop v2038 v2040).trips) (k1_t115 : Fin (k1_t115_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t115
  let v3026 : BitVec 32 := Scalar.addi v3015 arg46
  let v3082 : Index := Scalar.indexCast v3026
  let c176_1457 : Index := 176#32
  ![v3082.toNat, 176]
def k1_off1574 (v2038 : BitVec 32) (v2040 : BitVec 32) (k1_t111 : Fin (k1_t111_loop v2038 v2040).trips) (k1_t115 : Fin (k1_t115_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t115
  let v3026 : BitVec 32 := Scalar.addi v3015 arg46
  let v3087 : Index := Scalar.indexCast v3026
  let c192_1458 : Index := 192#32
  ![v3087.toNat, 192]
def k1_off1575 (v2038 : BitVec 32) (v2040 : BitVec 32) (k1_t111 : Fin (k1_t111_loop v2038 v2040).trips) (k1_t115 : Fin (k1_t115_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t115
  let v3026 : BitVec 32 := Scalar.addi v3015 arg46
  let v3092 : Index := Scalar.indexCast v3026
  let c208_1459 : Index := 208#32
  ![v3092.toNat, 208]
def k1_off1576 (v2038 : BitVec 32) (v2040 : BitVec 32) (k1_t111 : Fin (k1_t111_loop v2038 v2040).trips) (k1_t115 : Fin (k1_t115_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t115
  let v3026 : BitVec 32 := Scalar.addi v3015 arg46
  let v3097 : Index := Scalar.indexCast v3026
  let c224_1460 : Index := 224#32
  ![v3097.toNat, 224]
def k1_off1577 (v2038 : BitVec 32) (v2040 : BitVec 32) (k1_t111 : Fin (k1_t111_loop v2038 v2040).trips) (k1_t115 : Fin (k1_t115_loop v2038 v2040 k1_t111).trips) : Fin 2 → Nat :=
  let c2_i32_1426 : BitVec 32 := 2#32
  let c0_i32_987 : BitVec 32 := 0#32
  let c1_i32_989 : BitVec 32 := 1#32
  let arg13 : BitVec 32 := Scf.iv c0_i32_987 c1_i32_989 k1_t111
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t115
  let v3026 : BitVec 32 := Scalar.addi v3015 arg46
  let v3102 : Index := Scalar.indexCast v3026
  let c240_1461 : Index := 240#32
  ![v3102.toNat, 240]
@[reducible] def k1_t116_loop (v2038 : BitVec 32) (v2040 : BitVec 32) : Scf.Loop 32 :=
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let v2085 : BitVec 32 := Scalar.addi c0_i32_987 v2084
  let c1_i32_990 : BitVec 32 := 1#32
  ⟨v2088, v2085, c1_i32_990⟩
def k1_off1578 (i : grid1.Coords) (v2038 : BitVec 32) (v2040 : BitVec 32) (k1_t116 : Fin (k1_t116_loop v2038 v2040).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1446 : BitVec 32 := 64#32
  let v3026 : BitVec 32 := Scalar.muli v2949 c64_i32_1446
  let v3027 : BitVec 32 := Scalar.addi v2038 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond105 (v2038 : BitVec 32) (v2040 : BitVec 32) (k1_t116 : Fin (k1_t116_loop v2038 v2040).trips) : BitVec 1 :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let v2950 : BitVec 1 := Scalar.cmpi .slt v2949 v2062
  let v2951 : BitVec 32 := Scalar.extui v2950
  let c0_i32_1409 : BitVec 32 := 0#32
  let v2952 : BitVec 1 := Scalar.cmpi .ne v2951 c0_i32_1409
  v2952

def k1_off1579 (i : grid1.Coords) (v2038 : BitVec 32) (v2040 : BitVec 32) (k1_t116 : Fin (k1_t116_loop v2038 v2040).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v2038 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond106 (v2038 : BitVec 32) (v2040 : BitVec 32) (k1_t116 : Fin (k1_t116_loop v2038 v2040).trips) : BitVec 1 :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c1_i32_1456 : BitVec 32 := 1#32
  let v3049 : BitVec 32 := Scalar.addi v2949 c1_i32_1456
  let v3050 : BitVec 1 := Scalar.cmpi .slt v3049 v2062
  let v3051 : BitVec 32 := Scalar.extui v3050
  let c0_i32_1457 : BitVec 32 := 0#32
  let v3052 : BitVec 1 := Scalar.cmpi .ne v3051 c0_i32_1457
  v3052

@[reducible] def k1_t117_loop (v2038 : BitVec 32) (v2040 : BitVec 32) (k1_t116 : Fin (k1_t116_loop v2038 v2040).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off1580 (v2038 : BitVec 32) (v2040 : BitVec 32) (k1_t116 : Fin (k1_t116_loop v2038 v2040).trips) (k1_t117 : Fin (k1_t117_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t117
  let v3026 : BitVec 32 := Scalar.addi v2976 arg46
  let v3027 : Index := Scalar.indexCast v3026
  let c0_1446 : Index := 0#32
  ![v3027.toNat, 0]
def k1_off1581 (v2038 : BitVec 32) (v2040 : BitVec 32) (k1_t116 : Fin (k1_t116_loop v2038 v2040).trips) (k1_t117 : Fin (k1_t117_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t117
  let v3026 : BitVec 32 := Scalar.addi v2976 arg46
  let v3032 : Index := Scalar.indexCast v3026
  let c16_1447 : Index := 16#32
  ![v3032.toNat, 16]
def k1_off1582 (v2038 : BitVec 32) (v2040 : BitVec 32) (k1_t116 : Fin (k1_t116_loop v2038 v2040).trips) (k1_t117 : Fin (k1_t117_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t117
  let v3026 : BitVec 32 := Scalar.addi v2976 arg46
  let v3037 : Index := Scalar.indexCast v3026
  let c32_1448 : Index := 32#32
  ![v3037.toNat, 32]
def k1_off1583 (v2038 : BitVec 32) (v2040 : BitVec 32) (k1_t116 : Fin (k1_t116_loop v2038 v2040).trips) (k1_t117 : Fin (k1_t117_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t117
  let v3026 : BitVec 32 := Scalar.addi v2976 arg46
  let v3042 : Index := Scalar.indexCast v3026
  let c48_1449 : Index := 48#32
  ![v3042.toNat, 48]
def k1_off1584 (v2038 : BitVec 32) (v2040 : BitVec 32) (k1_t116 : Fin (k1_t116_loop v2038 v2040).trips) (k1_t117 : Fin (k1_t117_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t117
  let v3026 : BitVec 32 := Scalar.addi v2976 arg46
  let v3047 : Index := Scalar.indexCast v3026
  let c64_1450 : Index := 64#32
  ![v3047.toNat, 64]
def k1_off1585 (v2038 : BitVec 32) (v2040 : BitVec 32) (k1_t116 : Fin (k1_t116_loop v2038 v2040).trips) (k1_t117 : Fin (k1_t117_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t117
  let v3026 : BitVec 32 := Scalar.addi v2976 arg46
  let v3052 : Index := Scalar.indexCast v3026
  let c80_1451 : Index := 80#32
  ![v3052.toNat, 80]
def k1_off1586 (v2038 : BitVec 32) (v2040 : BitVec 32) (k1_t116 : Fin (k1_t116_loop v2038 v2040).trips) (k1_t117 : Fin (k1_t117_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t117
  let v3026 : BitVec 32 := Scalar.addi v2976 arg46
  let v3057 : Index := Scalar.indexCast v3026
  let c96_1452 : Index := 96#32
  ![v3057.toNat, 96]
def k1_off1587 (v2038 : BitVec 32) (v2040 : BitVec 32) (k1_t116 : Fin (k1_t116_loop v2038 v2040).trips) (k1_t117 : Fin (k1_t117_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t117
  let v3026 : BitVec 32 := Scalar.addi v2976 arg46
  let v3062 : Index := Scalar.indexCast v3026
  let c112_1453 : Index := 112#32
  ![v3062.toNat, 112]
def k1_off1588 (v2038 : BitVec 32) (v2040 : BitVec 32) (k1_t116 : Fin (k1_t116_loop v2038 v2040).trips) (k1_t117 : Fin (k1_t117_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t117
  let v3026 : BitVec 32 := Scalar.addi v2976 arg46
  let v3067 : Index := Scalar.indexCast v3026
  let c128_1454 : Index := 128#32
  ![v3067.toNat, 128]
def k1_off1589 (v2038 : BitVec 32) (v2040 : BitVec 32) (k1_t116 : Fin (k1_t116_loop v2038 v2040).trips) (k1_t117 : Fin (k1_t117_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t117
  let v3026 : BitVec 32 := Scalar.addi v2976 arg46
  let v3072 : Index := Scalar.indexCast v3026
  let c144_1455 : Index := 144#32
  ![v3072.toNat, 144]
def k1_off1590 (v2038 : BitVec 32) (v2040 : BitVec 32) (k1_t116 : Fin (k1_t116_loop v2038 v2040).trips) (k1_t117 : Fin (k1_t117_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t117
  let v3026 : BitVec 32 := Scalar.addi v2976 arg46
  let v3077 : Index := Scalar.indexCast v3026
  let c160_1456 : Index := 160#32
  ![v3077.toNat, 160]
def k1_off1591 (v2038 : BitVec 32) (v2040 : BitVec 32) (k1_t116 : Fin (k1_t116_loop v2038 v2040).trips) (k1_t117 : Fin (k1_t117_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t117
  let v3026 : BitVec 32 := Scalar.addi v2976 arg46
  let v3082 : Index := Scalar.indexCast v3026
  let c176_1457 : Index := 176#32
  ![v3082.toNat, 176]
def k1_off1592 (v2038 : BitVec 32) (v2040 : BitVec 32) (k1_t116 : Fin (k1_t116_loop v2038 v2040).trips) (k1_t117 : Fin (k1_t117_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t117
  let v3026 : BitVec 32 := Scalar.addi v2976 arg46
  let v3087 : Index := Scalar.indexCast v3026
  let c192_1458 : Index := 192#32
  ![v3087.toNat, 192]
def k1_off1593 (v2038 : BitVec 32) (v2040 : BitVec 32) (k1_t116 : Fin (k1_t116_loop v2038 v2040).trips) (k1_t117 : Fin (k1_t117_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t117
  let v3026 : BitVec 32 := Scalar.addi v2976 arg46
  let v3092 : Index := Scalar.indexCast v3026
  let c208_1459 : Index := 208#32
  ![v3092.toNat, 208]
def k1_off1594 (v2038 : BitVec 32) (v2040 : BitVec 32) (k1_t116 : Fin (k1_t116_loop v2038 v2040).trips) (k1_t117 : Fin (k1_t117_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t117
  let v3026 : BitVec 32 := Scalar.addi v2976 arg46
  let v3097 : Index := Scalar.indexCast v3026
  let c224_1460 : Index := 224#32
  ![v3097.toNat, 224]
def k1_off1595 (v2038 : BitVec 32) (v2040 : BitVec 32) (k1_t116 : Fin (k1_t116_loop v2038 v2040).trips) (k1_t117 : Fin (k1_t117_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t117
  let v3026 : BitVec 32 := Scalar.addi v2976 arg46
  let v3102 : Index := Scalar.indexCast v3026
  let c240_1461 : Index := 240#32
  ![v3102.toNat, 240]
@[reducible] def k1_t118_loop (v2038 : BitVec 32) (v2040 : BitVec 32) (k1_t116 : Fin (k1_t116_loop v2038 v2040).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off1596 (v2038 : BitVec 32) (v2040 : BitVec 32) (k1_t116 : Fin (k1_t116_loop v2038 v2040).trips) (k1_t118 : Fin (k1_t118_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t118
  let v3026 : BitVec 32 := Scalar.addi v2976 arg46
  let v3027 : Index := Scalar.indexCast v3026
  let c0_1446 : Index := 0#32
  ![v3027.toNat, 0]
def k1_off1597 (v2038 : BitVec 32) (v2040 : BitVec 32) (k1_t116 : Fin (k1_t116_loop v2038 v2040).trips) (k1_t118 : Fin (k1_t118_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t118
  let v3026 : BitVec 32 := Scalar.addi v2976 arg46
  let v3032 : Index := Scalar.indexCast v3026
  let c16_1447 : Index := 16#32
  ![v3032.toNat, 16]
def k1_off1598 (v2038 : BitVec 32) (v2040 : BitVec 32) (k1_t116 : Fin (k1_t116_loop v2038 v2040).trips) (k1_t118 : Fin (k1_t118_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t118
  let v3026 : BitVec 32 := Scalar.addi v2976 arg46
  let v3037 : Index := Scalar.indexCast v3026
  let c32_1448 : Index := 32#32
  ![v3037.toNat, 32]
def k1_off1599 (v2038 : BitVec 32) (v2040 : BitVec 32) (k1_t116 : Fin (k1_t116_loop v2038 v2040).trips) (k1_t118 : Fin (k1_t118_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t118
  let v3026 : BitVec 32 := Scalar.addi v2976 arg46
  let v3042 : Index := Scalar.indexCast v3026
  let c48_1449 : Index := 48#32
  ![v3042.toNat, 48]
def k1_off1600 (v2038 : BitVec 32) (v2040 : BitVec 32) (k1_t116 : Fin (k1_t116_loop v2038 v2040).trips) (k1_t118 : Fin (k1_t118_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t118
  let v3026 : BitVec 32 := Scalar.addi v2976 arg46
  let v3047 : Index := Scalar.indexCast v3026
  let c64_1450 : Index := 64#32
  ![v3047.toNat, 64]
def k1_off1601 (v2038 : BitVec 32) (v2040 : BitVec 32) (k1_t116 : Fin (k1_t116_loop v2038 v2040).trips) (k1_t118 : Fin (k1_t118_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t118
  let v3026 : BitVec 32 := Scalar.addi v2976 arg46
  let v3052 : Index := Scalar.indexCast v3026
  let c80_1451 : Index := 80#32
  ![v3052.toNat, 80]
def k1_off1602 (v2038 : BitVec 32) (v2040 : BitVec 32) (k1_t116 : Fin (k1_t116_loop v2038 v2040).trips) (k1_t118 : Fin (k1_t118_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t118
  let v3026 : BitVec 32 := Scalar.addi v2976 arg46
  let v3057 : Index := Scalar.indexCast v3026
  let c96_1452 : Index := 96#32
  ![v3057.toNat, 96]
def k1_off1603 (v2038 : BitVec 32) (v2040 : BitVec 32) (k1_t116 : Fin (k1_t116_loop v2038 v2040).trips) (k1_t118 : Fin (k1_t118_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t118
  let v3026 : BitVec 32 := Scalar.addi v2976 arg46
  let v3062 : Index := Scalar.indexCast v3026
  let c112_1453 : Index := 112#32
  ![v3062.toNat, 112]
def k1_off1604 (v2038 : BitVec 32) (v2040 : BitVec 32) (k1_t116 : Fin (k1_t116_loop v2038 v2040).trips) (k1_t118 : Fin (k1_t118_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t118
  let v3026 : BitVec 32 := Scalar.addi v2976 arg46
  let v3067 : Index := Scalar.indexCast v3026
  let c128_1454 : Index := 128#32
  ![v3067.toNat, 128]
def k1_off1605 (v2038 : BitVec 32) (v2040 : BitVec 32) (k1_t116 : Fin (k1_t116_loop v2038 v2040).trips) (k1_t118 : Fin (k1_t118_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t118
  let v3026 : BitVec 32 := Scalar.addi v2976 arg46
  let v3072 : Index := Scalar.indexCast v3026
  let c144_1455 : Index := 144#32
  ![v3072.toNat, 144]
def k1_off1606 (v2038 : BitVec 32) (v2040 : BitVec 32) (k1_t116 : Fin (k1_t116_loop v2038 v2040).trips) (k1_t118 : Fin (k1_t118_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t118
  let v3026 : BitVec 32 := Scalar.addi v2976 arg46
  let v3077 : Index := Scalar.indexCast v3026
  let c160_1456 : Index := 160#32
  ![v3077.toNat, 160]
def k1_off1607 (v2038 : BitVec 32) (v2040 : BitVec 32) (k1_t116 : Fin (k1_t116_loop v2038 v2040).trips) (k1_t118 : Fin (k1_t118_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t118
  let v3026 : BitVec 32 := Scalar.addi v2976 arg46
  let v3082 : Index := Scalar.indexCast v3026
  let c176_1457 : Index := 176#32
  ![v3082.toNat, 176]
def k1_off1608 (v2038 : BitVec 32) (v2040 : BitVec 32) (k1_t116 : Fin (k1_t116_loop v2038 v2040).trips) (k1_t118 : Fin (k1_t118_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t118
  let v3026 : BitVec 32 := Scalar.addi v2976 arg46
  let v3087 : Index := Scalar.indexCast v3026
  let c192_1458 : Index := 192#32
  ![v3087.toNat, 192]
def k1_off1609 (v2038 : BitVec 32) (v2040 : BitVec 32) (k1_t116 : Fin (k1_t116_loop v2038 v2040).trips) (k1_t118 : Fin (k1_t118_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t118
  let v3026 : BitVec 32 := Scalar.addi v2976 arg46
  let v3092 : Index := Scalar.indexCast v3026
  let c208_1459 : Index := 208#32
  ![v3092.toNat, 208]
def k1_off1610 (v2038 : BitVec 32) (v2040 : BitVec 32) (k1_t116 : Fin (k1_t116_loop v2038 v2040).trips) (k1_t118 : Fin (k1_t118_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t118
  let v3026 : BitVec 32 := Scalar.addi v2976 arg46
  let v3097 : Index := Scalar.indexCast v3026
  let c224_1460 : Index := 224#32
  ![v3097.toNat, 224]
def k1_off1611 (v2038 : BitVec 32) (v2040 : BitVec 32) (k1_t116 : Fin (k1_t116_loop v2038 v2040).trips) (k1_t118 : Fin (k1_t118_loop v2038 v2040 k1_t116).trips) : Fin 2 → Nat :=
  let c2_i32_1408 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2949 : BitVec 32 := Scalar.muli c2_i32_1408 arg13
  let c64_i32_1410 : BitVec 32 := 64#32
  let v2953 : BitVec 32 := Scalar.muli v2949 c64_i32_1410
  let v2954 : BitVec 32 := Scalar.addi v2038 v2953
  let c64_i32_1411 : BitVec 32 := 64#32
  let v2955 : BitVec 32 := Scalar.muli v2949 c64_i32_1411
  let v2956 : BitVec 32 := Scalar.addi v2038 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2040 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t118
  let v3026 : BitVec 32 := Scalar.addi v2976 arg46
  let v3102 : Index := Scalar.indexCast v3026
  let c240_1461 : Index := 240#32
  ![v3102.toNat, 240]
def k1_off1612 (i : grid1.Coords) (v2038 : BitVec 32) (v2040 : BitVec 32) (k1_t116 : Fin (k1_t116_loop v2038 v2040).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v2038 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond107 (v2038 : BitVec 32) (v2040 : BitVec 32) (k1_t116 : Fin (k1_t116_loop v2038 v2040).trips) : BitVec 1 :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let v2989 : BitVec 1 := Scalar.cmpi .slt v2988 v2062
  let v2990 : BitVec 32 := Scalar.extui v2989
  let c0_i32_1428 : BitVec 32 := 0#32
  let v2991 : BitVec 1 := Scalar.cmpi .ne v2990 c0_i32_1428
  v2991

def k1_off1613 (i : grid1.Coords) (v2038 : BitVec 32) (v2040 : BitVec 32) (k1_t116 : Fin (k1_t116_loop v2038 v2040).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v2038 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond108 (v2038 : BitVec 32) (v2040 : BitVec 32) (k1_t116 : Fin (k1_t116_loop v2038 v2040).trips) : BitVec 1 :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v3050 : BitVec 1 := Scalar.cmpi .slt v3049 v2062
  let v3051 : BitVec 32 := Scalar.extui v3050
  let c0_i32_1457 : BitVec 32 := 0#32
  let v3052 : BitVec 1 := Scalar.cmpi .ne v3051 c0_i32_1457
  v3052

@[reducible] def k1_t119_loop (v2038 : BitVec 32) (v2040 : BitVec 32) (k1_t116 : Fin (k1_t116_loop v2038 v2040).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off1614 (v2038 : BitVec 32) (v2040 : BitVec 32) (k1_t116 : Fin (k1_t116_loop v2038 v2040).trips) (k1_t119 : Fin (k1_t119_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t119
  let v3026 : BitVec 32 := Scalar.addi v3015 arg46
  let v3027 : Index := Scalar.indexCast v3026
  let c0_1446 : Index := 0#32
  ![v3027.toNat, 0]
def k1_off1615 (v2038 : BitVec 32) (v2040 : BitVec 32) (k1_t116 : Fin (k1_t116_loop v2038 v2040).trips) (k1_t119 : Fin (k1_t119_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t119
  let v3026 : BitVec 32 := Scalar.addi v3015 arg46
  let v3032 : Index := Scalar.indexCast v3026
  let c16_1447 : Index := 16#32
  ![v3032.toNat, 16]
def k1_off1616 (v2038 : BitVec 32) (v2040 : BitVec 32) (k1_t116 : Fin (k1_t116_loop v2038 v2040).trips) (k1_t119 : Fin (k1_t119_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t119
  let v3026 : BitVec 32 := Scalar.addi v3015 arg46
  let v3037 : Index := Scalar.indexCast v3026
  let c32_1448 : Index := 32#32
  ![v3037.toNat, 32]
def k1_off1617 (v2038 : BitVec 32) (v2040 : BitVec 32) (k1_t116 : Fin (k1_t116_loop v2038 v2040).trips) (k1_t119 : Fin (k1_t119_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t119
  let v3026 : BitVec 32 := Scalar.addi v3015 arg46
  let v3042 : Index := Scalar.indexCast v3026
  let c48_1449 : Index := 48#32
  ![v3042.toNat, 48]
def k1_off1618 (v2038 : BitVec 32) (v2040 : BitVec 32) (k1_t116 : Fin (k1_t116_loop v2038 v2040).trips) (k1_t119 : Fin (k1_t119_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t119
  let v3026 : BitVec 32 := Scalar.addi v3015 arg46
  let v3047 : Index := Scalar.indexCast v3026
  let c64_1450 : Index := 64#32
  ![v3047.toNat, 64]
def k1_off1619 (v2038 : BitVec 32) (v2040 : BitVec 32) (k1_t116 : Fin (k1_t116_loop v2038 v2040).trips) (k1_t119 : Fin (k1_t119_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t119
  let v3026 : BitVec 32 := Scalar.addi v3015 arg46
  let v3052 : Index := Scalar.indexCast v3026
  let c80_1451 : Index := 80#32
  ![v3052.toNat, 80]
def k1_off1620 (v2038 : BitVec 32) (v2040 : BitVec 32) (k1_t116 : Fin (k1_t116_loop v2038 v2040).trips) (k1_t119 : Fin (k1_t119_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t119
  let v3026 : BitVec 32 := Scalar.addi v3015 arg46
  let v3057 : Index := Scalar.indexCast v3026
  let c96_1452 : Index := 96#32
  ![v3057.toNat, 96]
def k1_off1621 (v2038 : BitVec 32) (v2040 : BitVec 32) (k1_t116 : Fin (k1_t116_loop v2038 v2040).trips) (k1_t119 : Fin (k1_t119_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t119
  let v3026 : BitVec 32 := Scalar.addi v3015 arg46
  let v3062 : Index := Scalar.indexCast v3026
  let c112_1453 : Index := 112#32
  ![v3062.toNat, 112]
def k1_off1622 (v2038 : BitVec 32) (v2040 : BitVec 32) (k1_t116 : Fin (k1_t116_loop v2038 v2040).trips) (k1_t119 : Fin (k1_t119_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t119
  let v3026 : BitVec 32 := Scalar.addi v3015 arg46
  let v3067 : Index := Scalar.indexCast v3026
  let c128_1454 : Index := 128#32
  ![v3067.toNat, 128]
def k1_off1623 (v2038 : BitVec 32) (v2040 : BitVec 32) (k1_t116 : Fin (k1_t116_loop v2038 v2040).trips) (k1_t119 : Fin (k1_t119_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t119
  let v3026 : BitVec 32 := Scalar.addi v3015 arg46
  let v3072 : Index := Scalar.indexCast v3026
  let c144_1455 : Index := 144#32
  ![v3072.toNat, 144]
def k1_off1624 (v2038 : BitVec 32) (v2040 : BitVec 32) (k1_t116 : Fin (k1_t116_loop v2038 v2040).trips) (k1_t119 : Fin (k1_t119_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t119
  let v3026 : BitVec 32 := Scalar.addi v3015 arg46
  let v3077 : Index := Scalar.indexCast v3026
  let c160_1456 : Index := 160#32
  ![v3077.toNat, 160]
def k1_off1625 (v2038 : BitVec 32) (v2040 : BitVec 32) (k1_t116 : Fin (k1_t116_loop v2038 v2040).trips) (k1_t119 : Fin (k1_t119_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t119
  let v3026 : BitVec 32 := Scalar.addi v3015 arg46
  let v3082 : Index := Scalar.indexCast v3026
  let c176_1457 : Index := 176#32
  ![v3082.toNat, 176]
def k1_off1626 (v2038 : BitVec 32) (v2040 : BitVec 32) (k1_t116 : Fin (k1_t116_loop v2038 v2040).trips) (k1_t119 : Fin (k1_t119_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t119
  let v3026 : BitVec 32 := Scalar.addi v3015 arg46
  let v3087 : Index := Scalar.indexCast v3026
  let c192_1458 : Index := 192#32
  ![v3087.toNat, 192]
def k1_off1627 (v2038 : BitVec 32) (v2040 : BitVec 32) (k1_t116 : Fin (k1_t116_loop v2038 v2040).trips) (k1_t119 : Fin (k1_t119_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t119
  let v3026 : BitVec 32 := Scalar.addi v3015 arg46
  let v3092 : Index := Scalar.indexCast v3026
  let c208_1459 : Index := 208#32
  ![v3092.toNat, 208]
def k1_off1628 (v2038 : BitVec 32) (v2040 : BitVec 32) (k1_t116 : Fin (k1_t116_loop v2038 v2040).trips) (k1_t119 : Fin (k1_t119_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t119
  let v3026 : BitVec 32 := Scalar.addi v3015 arg46
  let v3097 : Index := Scalar.indexCast v3026
  let c224_1460 : Index := 224#32
  ![v3097.toNat, 224]
def k1_off1629 (v2038 : BitVec 32) (v2040 : BitVec 32) (k1_t116 : Fin (k1_t116_loop v2038 v2040).trips) (k1_t119 : Fin (k1_t119_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t119
  let v3026 : BitVec 32 := Scalar.addi v3015 arg46
  let v3102 : Index := Scalar.indexCast v3026
  let c240_1461 : Index := 240#32
  ![v3102.toNat, 240]
@[reducible] def k1_t120_loop (v2038 : BitVec 32) (v2040 : BitVec 32) (k1_t116 : Fin (k1_t116_loop v2038 v2040).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off1630 (v2038 : BitVec 32) (v2040 : BitVec 32) (k1_t116 : Fin (k1_t116_loop v2038 v2040).trips) (k1_t120 : Fin (k1_t120_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t120
  let v3026 : BitVec 32 := Scalar.addi v3015 arg46
  let v3027 : Index := Scalar.indexCast v3026
  let c0_1446 : Index := 0#32
  ![v3027.toNat, 0]
def k1_off1631 (v2038 : BitVec 32) (v2040 : BitVec 32) (k1_t116 : Fin (k1_t116_loop v2038 v2040).trips) (k1_t120 : Fin (k1_t120_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t120
  let v3026 : BitVec 32 := Scalar.addi v3015 arg46
  let v3032 : Index := Scalar.indexCast v3026
  let c16_1447 : Index := 16#32
  ![v3032.toNat, 16]
def k1_off1632 (v2038 : BitVec 32) (v2040 : BitVec 32) (k1_t116 : Fin (k1_t116_loop v2038 v2040).trips) (k1_t120 : Fin (k1_t120_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t120
  let v3026 : BitVec 32 := Scalar.addi v3015 arg46
  let v3037 : Index := Scalar.indexCast v3026
  let c32_1448 : Index := 32#32
  ![v3037.toNat, 32]
def k1_off1633 (v2038 : BitVec 32) (v2040 : BitVec 32) (k1_t116 : Fin (k1_t116_loop v2038 v2040).trips) (k1_t120 : Fin (k1_t120_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t120
  let v3026 : BitVec 32 := Scalar.addi v3015 arg46
  let v3042 : Index := Scalar.indexCast v3026
  let c48_1449 : Index := 48#32
  ![v3042.toNat, 48]
def k1_off1634 (v2038 : BitVec 32) (v2040 : BitVec 32) (k1_t116 : Fin (k1_t116_loop v2038 v2040).trips) (k1_t120 : Fin (k1_t120_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t120
  let v3026 : BitVec 32 := Scalar.addi v3015 arg46
  let v3047 : Index := Scalar.indexCast v3026
  let c64_1450 : Index := 64#32
  ![v3047.toNat, 64]
def k1_off1635 (v2038 : BitVec 32) (v2040 : BitVec 32) (k1_t116 : Fin (k1_t116_loop v2038 v2040).trips) (k1_t120 : Fin (k1_t120_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t120
  let v3026 : BitVec 32 := Scalar.addi v3015 arg46
  let v3052 : Index := Scalar.indexCast v3026
  let c80_1451 : Index := 80#32
  ![v3052.toNat, 80]
def k1_off1636 (v2038 : BitVec 32) (v2040 : BitVec 32) (k1_t116 : Fin (k1_t116_loop v2038 v2040).trips) (k1_t120 : Fin (k1_t120_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t120
  let v3026 : BitVec 32 := Scalar.addi v3015 arg46
  let v3057 : Index := Scalar.indexCast v3026
  let c96_1452 : Index := 96#32
  ![v3057.toNat, 96]
def k1_off1637 (v2038 : BitVec 32) (v2040 : BitVec 32) (k1_t116 : Fin (k1_t116_loop v2038 v2040).trips) (k1_t120 : Fin (k1_t120_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t120
  let v3026 : BitVec 32 := Scalar.addi v3015 arg46
  let v3062 : Index := Scalar.indexCast v3026
  let c112_1453 : Index := 112#32
  ![v3062.toNat, 112]
def k1_off1638 (v2038 : BitVec 32) (v2040 : BitVec 32) (k1_t116 : Fin (k1_t116_loop v2038 v2040).trips) (k1_t120 : Fin (k1_t120_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t120
  let v3026 : BitVec 32 := Scalar.addi v3015 arg46
  let v3067 : Index := Scalar.indexCast v3026
  let c128_1454 : Index := 128#32
  ![v3067.toNat, 128]
def k1_off1639 (v2038 : BitVec 32) (v2040 : BitVec 32) (k1_t116 : Fin (k1_t116_loop v2038 v2040).trips) (k1_t120 : Fin (k1_t120_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t120
  let v3026 : BitVec 32 := Scalar.addi v3015 arg46
  let v3072 : Index := Scalar.indexCast v3026
  let c144_1455 : Index := 144#32
  ![v3072.toNat, 144]
def k1_off1640 (v2038 : BitVec 32) (v2040 : BitVec 32) (k1_t116 : Fin (k1_t116_loop v2038 v2040).trips) (k1_t120 : Fin (k1_t120_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t120
  let v3026 : BitVec 32 := Scalar.addi v3015 arg46
  let v3077 : Index := Scalar.indexCast v3026
  let c160_1456 : Index := 160#32
  ![v3077.toNat, 160]
def k1_off1641 (v2038 : BitVec 32) (v2040 : BitVec 32) (k1_t116 : Fin (k1_t116_loop v2038 v2040).trips) (k1_t120 : Fin (k1_t120_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t120
  let v3026 : BitVec 32 := Scalar.addi v3015 arg46
  let v3082 : Index := Scalar.indexCast v3026
  let c176_1457 : Index := 176#32
  ![v3082.toNat, 176]
def k1_off1642 (v2038 : BitVec 32) (v2040 : BitVec 32) (k1_t116 : Fin (k1_t116_loop v2038 v2040).trips) (k1_t120 : Fin (k1_t120_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t120
  let v3026 : BitVec 32 := Scalar.addi v3015 arg46
  let v3087 : Index := Scalar.indexCast v3026
  let c192_1458 : Index := 192#32
  ![v3087.toNat, 192]
def k1_off1643 (v2038 : BitVec 32) (v2040 : BitVec 32) (k1_t116 : Fin (k1_t116_loop v2038 v2040).trips) (k1_t120 : Fin (k1_t120_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t120
  let v3026 : BitVec 32 := Scalar.addi v3015 arg46
  let v3092 : Index := Scalar.indexCast v3026
  let c208_1459 : Index := 208#32
  ![v3092.toNat, 208]
def k1_off1644 (v2038 : BitVec 32) (v2040 : BitVec 32) (k1_t116 : Fin (k1_t116_loop v2038 v2040).trips) (k1_t120 : Fin (k1_t120_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t120
  let v3026 : BitVec 32 := Scalar.addi v3015 arg46
  let v3097 : Index := Scalar.indexCast v3026
  let c224_1460 : Index := 224#32
  ![v3097.toNat, 224]
def k1_off1645 (v2038 : BitVec 32) (v2040 : BitVec 32) (k1_t116 : Fin (k1_t116_loop v2038 v2040).trips) (k1_t120 : Fin (k1_t120_loop v2038 v2040 k1_t116).trips) : Fin 2 → Nat :=
  let c2_i32_1426 : BitVec 32 := 2#32
  let c0_i32_987 : BitVec 32 := 0#32
  let v2043 : BitVec 32 := Scalar.subi v2040 v2038
  let c64_i32_968 : BitVec 32 := 64#32
  let v2044 : BitVec 32 := Scalar.addi v2043 c64_i32_968
  let c1_i32_969 : BitVec 32 := 1#32
  let v2045 : BitVec 32 := Scalar.subi v2044 c1_i32_969
  let c0_i32_971 : BitVec 32 := 0#32
  let v2047 : BitVec 1 := Scalar.cmpi .sgt v2045 c0_i32_971
  let v2048 : BitVec 32 := Scalar.extui v2047
  let c0_i32_972 : BitVec 32 := 0#32
  let v2049 : BitVec 1 := Scalar.cmpi .slt v2045 c0_i32_972
  let v2050 : BitVec 32 := Scalar.extui v2049
  let v2051 : BitVec 32 := Scalar.subi v2048 v2050
  let c64_i32_970 : BitVec 32 := 64#32
  let c0_i32_973 : BitVec 32 := 0#32
  let v2052 : BitVec 1 := Scalar.cmpi .sgt c64_i32_970 c0_i32_973
  let v2053 : BitVec 32 := Scalar.extui v2052
  let c0_i32_974 : BitVec 32 := 0#32
  let v2054 : BitVec 1 := Scalar.cmpi .slt c64_i32_970 c0_i32_974
  let v2055 : BitVec 32 := Scalar.extui v2054
  let v2056 : BitVec 32 := Scalar.subi v2053 v2055
  let v2057 : BitVec 1 := Scalar.cmpi .ne v2051 v2056
  let v2058 : BitVec 32 := Scalar.remsi v2045 c64_i32_970
  let c0_i32_975 : BitVec 32 := 0#32
  let v2059 : BitVec 1 := Scalar.cmpi .ne v2058 c0_i32_975
  let v2060 : BitVec 1 := Scalar.andi v2057 v2059
  let v2046 : BitVec 32 := Scalar.divsi v2045 c64_i32_970
  let c1_i32_976 : BitVec 32 := 1#32
  let v2061 : BitVec 32 := Scalar.subi v2046 c1_i32_976
  let v2062 : BitVec 32 := Scalar.select v2060 v2061 v2046
  let c1_i32_979 : BitVec 32 := 1#32
  let v2066 : BitVec 32 := Scalar.addi v2062 c1_i32_979
  let c0_i32_981 : BitVec 32 := 0#32
  let v2068 : BitVec 1 := Scalar.cmpi .sgt v2066 c0_i32_981
  let v2069 : BitVec 32 := Scalar.extui v2068
  let c0_i32_982 : BitVec 32 := 0#32
  let v2070 : BitVec 1 := Scalar.cmpi .slt v2066 c0_i32_982
  let v2071 : BitVec 32 := Scalar.extui v2070
  let v2072 : BitVec 32 := Scalar.subi v2069 v2071
  let c2_i32_980 : BitVec 32 := 2#32
  let c0_i32_983 : BitVec 32 := 0#32
  let v2073 : BitVec 1 := Scalar.cmpi .sgt c2_i32_980 c0_i32_983
  let v2074 : BitVec 32 := Scalar.extui v2073
  let c0_i32_984 : BitVec 32 := 0#32
  let v2075 : BitVec 1 := Scalar.cmpi .slt c2_i32_980 c0_i32_984
  let v2076 : BitVec 32 := Scalar.extui v2075
  let v2077 : BitVec 32 := Scalar.subi v2074 v2076
  let v2078 : BitVec 1 := Scalar.cmpi .ne v2072 v2077
  let v2079 : BitVec 32 := Scalar.remsi v2066 c2_i32_980
  let c0_i32_985 : BitVec 32 := 0#32
  let v2080 : BitVec 1 := Scalar.cmpi .ne v2079 c0_i32_985
  let v2081 : BitVec 1 := Scalar.andi v2078 v2080
  let v2067 : BitVec 32 := Scalar.divsi v2066 c2_i32_980
  let c1_i32_986 : BitVec 32 := 1#32
  let v2082 : BitVec 32 := Scalar.subi v2067 c1_i32_986
  let v2083 : BitVec 32 := Scalar.select v2081 v2082 v2067
  let v2084 : BitVec 32 := Scalar.subi v2083 c0_i32_987
  let c1_i32_988 : BitVec 32 := 1#32
  let v2086 : BitVec 32 := Scalar.divsi v2084 c1_i32_988
  let v2087 : BitVec 32 := Scalar.muli v2086 c1_i32_988
  let v2088 : BitVec 32 := Scalar.addi c0_i32_987 v2087
  let c1_i32_990 : BitVec 32 := 1#32
  let arg13 : BitVec 32 := Scf.iv v2088 c1_i32_990 k1_t116
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2038 v2992
  let c64_i32_1430 : BitVec 32 := 64#32
  let v2994 : BitVec 32 := Scalar.muli v2988 c64_i32_1430
  let v2995 : BitVec 32 := Scalar.addi v2038 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2040 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t120
  let v3026 : BitVec 32 := Scalar.addi v3015 arg46
  let v3102 : Index := Scalar.indexCast v3026
  let c240_1461 : Index := 240#32
  ![v3102.toNat, 240]

def k1_chk12_0 (i : grid1.Coords) (v2038 : BitVec 32) (v2040 : BitVec 32) : Prop :=
  (∀ (k1_h100 : k1_cond100 v2038 v2040 = 1#1), ∀ a, (k1_off1509 i v2038) a + S72x256.size a ≤ S100000x512.size a) ∧
  ((k1_t111_loop v2038 v2040).OK) ∧
  (∀ k1_t111 : Fin (k1_t111_loop v2038 v2040).trips, ∀ (k1_h101 : k1_cond101 v2038 v2040 k1_t111 = 1#1), ∀ a, (k1_off1510 i v2038 v2040 k1_t111) a + S72x256.size a ≤ S100000x512.size a) ∧
  (∀ k1_t111 : Fin (k1_t111_loop v2038 v2040).trips, ∀ (k1_h101 : k1_cond101 v2038 v2040 k1_t111 = 1#1), ∀ (k1_h102 : k1_cond102 v2038 v2040 k1_t111 = 1#1), ∀ a, (k1_off1511 i v2038 v2040 k1_t111) a + S72x256.size a ≤ S100000x512.size a) ∧
  (∀ k1_t111 : Fin (k1_t111_loop v2038 v2040).trips, (k1_t112_loop v2038 v2040 k1_t111).OK) ∧
  (∀ (k1_t111 : Fin (k1_t111_loop v2038 v2040).trips) (k1_t112 : Fin (k1_t112_loop v2038 v2040 k1_t111).trips), ∀ a, (k1_off1512 v2038 v2040 k1_t111 k1_t112) a + S1x16.size a ≤ S72x256.size a) ∧
  (∀ (k1_t111 : Fin (k1_t111_loop v2038 v2040).trips) (k1_t112 : Fin (k1_t112_loop v2038 v2040 k1_t111).trips), ∀ a, (k1_off1513 v2038 v2040 k1_t111 k1_t112) a + S1x16.size a ≤ S72x256.size a) ∧
  (∀ (k1_t111 : Fin (k1_t111_loop v2038 v2040).trips) (k1_t112 : Fin (k1_t112_loop v2038 v2040 k1_t111).trips), ∀ a, (k1_off1514 v2038 v2040 k1_t111 k1_t112) a + S1x16.size a ≤ S72x256.size a) ∧
  (∀ (k1_t111 : Fin (k1_t111_loop v2038 v2040).trips) (k1_t112 : Fin (k1_t112_loop v2038 v2040 k1_t111).trips), ∀ a, (k1_off1515 v2038 v2040 k1_t111 k1_t112) a + S1x16.size a ≤ S72x256.size a) ∧
  (∀ (k1_t111 : Fin (k1_t111_loop v2038 v2040).trips) (k1_t112 : Fin (k1_t112_loop v2038 v2040 k1_t111).trips), ∀ a, (k1_off1516 v2038 v2040 k1_t111 k1_t112) a + S1x16.size a ≤ S72x256.size a) ∧
  (∀ (k1_t111 : Fin (k1_t111_loop v2038 v2040).trips) (k1_t112 : Fin (k1_t112_loop v2038 v2040 k1_t111).trips), ∀ a, (k1_off1517 v2038 v2040 k1_t111 k1_t112) a + S1x16.size a ≤ S72x256.size a) ∧
  (∀ (k1_t111 : Fin (k1_t111_loop v2038 v2040).trips) (k1_t112 : Fin (k1_t112_loop v2038 v2040 k1_t111).trips), ∀ a, (k1_off1518 v2038 v2040 k1_t111 k1_t112) a + S1x16.size a ≤ S72x256.size a) ∧
  (∀ (k1_t111 : Fin (k1_t111_loop v2038 v2040).trips) (k1_t112 : Fin (k1_t112_loop v2038 v2040 k1_t111).trips), ∀ a, (k1_off1519 v2038 v2040 k1_t111 k1_t112) a + S1x16.size a ≤ S72x256.size a) ∧
  (∀ (k1_t111 : Fin (k1_t111_loop v2038 v2040).trips) (k1_t112 : Fin (k1_t112_loop v2038 v2040 k1_t111).trips), ∀ a, (k1_off1520 v2038 v2040 k1_t111 k1_t112) a + S1x16.size a ≤ S72x256.size a) ∧
  (∀ (k1_t111 : Fin (k1_t111_loop v2038 v2040).trips) (k1_t112 : Fin (k1_t112_loop v2038 v2040 k1_t111).trips), ∀ a, (k1_off1521 v2038 v2040 k1_t111 k1_t112) a + S1x16.size a ≤ S72x256.size a) ∧
  (∀ (k1_t111 : Fin (k1_t111_loop v2038 v2040).trips) (k1_t112 : Fin (k1_t112_loop v2038 v2040 k1_t111).trips), ∀ a, (k1_off1522 v2038 v2040 k1_t111 k1_t112) a + S1x16.size a ≤ S72x256.size a) ∧
  (∀ (k1_t111 : Fin (k1_t111_loop v2038 v2040).trips) (k1_t112 : Fin (k1_t112_loop v2038 v2040 k1_t111).trips), ∀ a, (k1_off1523 v2038 v2040 k1_t111 k1_t112) a + S1x16.size a ≤ S72x256.size a) ∧
  (∀ (k1_t111 : Fin (k1_t111_loop v2038 v2040).trips) (k1_t112 : Fin (k1_t112_loop v2038 v2040 k1_t111).trips), ∀ a, (k1_off1524 v2038 v2040 k1_t111 k1_t112) a + S1x16.size a ≤ S72x256.size a) ∧
  (∀ (k1_t111 : Fin (k1_t111_loop v2038 v2040).trips) (k1_t112 : Fin (k1_t112_loop v2038 v2040 k1_t111).trips), ∀ a, (k1_off1525 v2038 v2040 k1_t111 k1_t112) a + S1x16.size a ≤ S72x256.size a) ∧
  (∀ (k1_t111 : Fin (k1_t111_loop v2038 v2040).trips) (k1_t112 : Fin (k1_t112_loop v2038 v2040 k1_t111).trips), ∀ a, (k1_off1526 v2038 v2040 k1_t111 k1_t112) a + S1x16.size a ≤ S72x256.size a) ∧
  (∀ (k1_t111 : Fin (k1_t111_loop v2038 v2040).trips) (k1_t112 : Fin (k1_t112_loop v2038 v2040 k1_t111).trips), ∀ a, (k1_off1527 v2038 v2040 k1_t111 k1_t112) a + S1x16.size a ≤ S72x256.size a) ∧
  (∀ k1_t111 : Fin (k1_t111_loop v2038 v2040).trips, (k1_t113_loop v2038 v2040 k1_t111).OK) ∧
  (∀ (k1_t111 : Fin (k1_t111_loop v2038 v2040).trips) (k1_t113 : Fin (k1_t113_loop v2038 v2040 k1_t111).trips), ∀ a, (k1_off1528 v2038 v2040 k1_t111 k1_t113) a + S1x16.size a ≤ S72x256.size a) ∧
  (∀ (k1_t111 : Fin (k1_t111_loop v2038 v2040).trips) (k1_t113 : Fin (k1_t113_loop v2038 v2040 k1_t111).trips), ∀ a, (k1_off1529 v2038 v2040 k1_t111 k1_t113) a + S1x16.size a ≤ S72x256.size a) ∧
  (∀ (k1_t111 : Fin (k1_t111_loop v2038 v2040).trips) (k1_t113 : Fin (k1_t113_loop v2038 v2040 k1_t111).trips), ∀ a, (k1_off1530 v2038 v2040 k1_t111 k1_t113) a + S1x16.size a ≤ S72x256.size a) ∧
  (∀ (k1_t111 : Fin (k1_t111_loop v2038 v2040).trips) (k1_t113 : Fin (k1_t113_loop v2038 v2040 k1_t111).trips), ∀ a, (k1_off1531 v2038 v2040 k1_t111 k1_t113) a + S1x16.size a ≤ S72x256.size a) ∧
  (∀ (k1_t111 : Fin (k1_t111_loop v2038 v2040).trips) (k1_t113 : Fin (k1_t113_loop v2038 v2040 k1_t111).trips), ∀ a, (k1_off1532 v2038 v2040 k1_t111 k1_t113) a + S1x16.size a ≤ S72x256.size a) ∧
  (∀ (k1_t111 : Fin (k1_t111_loop v2038 v2040).trips) (k1_t113 : Fin (k1_t113_loop v2038 v2040 k1_t111).trips), ∀ a, (k1_off1533 v2038 v2040 k1_t111 k1_t113) a + S1x16.size a ≤ S72x256.size a) ∧
  (∀ (k1_t111 : Fin (k1_t111_loop v2038 v2040).trips) (k1_t113 : Fin (k1_t113_loop v2038 v2040 k1_t111).trips), ∀ a, (k1_off1534 v2038 v2040 k1_t111 k1_t113) a + S1x16.size a ≤ S72x256.size a) ∧
  (∀ (k1_t111 : Fin (k1_t111_loop v2038 v2040).trips) (k1_t113 : Fin (k1_t113_loop v2038 v2040 k1_t111).trips), ∀ a, (k1_off1535 v2038 v2040 k1_t111 k1_t113) a + S1x16.size a ≤ S72x256.size a) ∧
  (∀ (k1_t111 : Fin (k1_t111_loop v2038 v2040).trips) (k1_t113 : Fin (k1_t113_loop v2038 v2040 k1_t111).trips), ∀ a, (k1_off1536 v2038 v2040 k1_t111 k1_t113) a + S1x16.size a ≤ S72x256.size a) ∧
  (∀ (k1_t111 : Fin (k1_t111_loop v2038 v2040).trips) (k1_t113 : Fin (k1_t113_loop v2038 v2040 k1_t111).trips), ∀ a, (k1_off1537 v2038 v2040 k1_t111 k1_t113) a + S1x16.size a ≤ S72x256.size a)
def k1_chk12_1 (i : grid1.Coords) (v2038 : BitVec 32) (v2040 : BitVec 32) : Prop :=
  (∀ (k1_t111 : Fin (k1_t111_loop v2038 v2040).trips) (k1_t113 : Fin (k1_t113_loop v2038 v2040 k1_t111).trips), ∀ a, (k1_off1538 v2038 v2040 k1_t111 k1_t113) a + S1x16.size a ≤ S72x256.size a) ∧
  (∀ (k1_t111 : Fin (k1_t111_loop v2038 v2040).trips) (k1_t113 : Fin (k1_t113_loop v2038 v2040 k1_t111).trips), ∀ a, (k1_off1539 v2038 v2040 k1_t111 k1_t113) a + S1x16.size a ≤ S72x256.size a) ∧
  (∀ (k1_t111 : Fin (k1_t111_loop v2038 v2040).trips) (k1_t113 : Fin (k1_t113_loop v2038 v2040 k1_t111).trips), ∀ a, (k1_off1540 v2038 v2040 k1_t111 k1_t113) a + S1x16.size a ≤ S72x256.size a) ∧
  (∀ (k1_t111 : Fin (k1_t111_loop v2038 v2040).trips) (k1_t113 : Fin (k1_t113_loop v2038 v2040 k1_t111).trips), ∀ a, (k1_off1541 v2038 v2040 k1_t111 k1_t113) a + S1x16.size a ≤ S72x256.size a) ∧
  (∀ (k1_t111 : Fin (k1_t111_loop v2038 v2040).trips) (k1_t113 : Fin (k1_t113_loop v2038 v2040 k1_t111).trips), ∀ a, (k1_off1542 v2038 v2040 k1_t111 k1_t113) a + S1x16.size a ≤ S72x256.size a) ∧
  (∀ (k1_t111 : Fin (k1_t111_loop v2038 v2040).trips) (k1_t113 : Fin (k1_t113_loop v2038 v2040 k1_t111).trips), ∀ a, (k1_off1543 v2038 v2040 k1_t111 k1_t113) a + S1x16.size a ≤ S72x256.size a) ∧
  (∀ k1_t111 : Fin (k1_t111_loop v2038 v2040).trips, ∀ (k1_h103 : k1_cond103 v2038 v2040 k1_t111 = 1#1), ∀ a, (k1_off1544 i v2038 v2040 k1_t111) a + S72x256.size a ≤ S100000x512.size a) ∧
  (∀ k1_t111 : Fin (k1_t111_loop v2038 v2040).trips, ∀ (k1_h103 : k1_cond103 v2038 v2040 k1_t111 = 1#1), ∀ (k1_h104 : k1_cond104 v2038 v2040 k1_t111 = 1#1), ∀ a, (k1_off1545 i v2038 v2040 k1_t111) a + S72x256.size a ≤ S100000x512.size a) ∧
  (∀ k1_t111 : Fin (k1_t111_loop v2038 v2040).trips, (k1_t114_loop v2038 v2040 k1_t111).OK) ∧
  (∀ (k1_t111 : Fin (k1_t111_loop v2038 v2040).trips) (k1_t114 : Fin (k1_t114_loop v2038 v2040 k1_t111).trips), ∀ a, (k1_off1546 v2038 v2040 k1_t111 k1_t114) a + S1x16.size a ≤ S72x256.size a) ∧
  (∀ (k1_t111 : Fin (k1_t111_loop v2038 v2040).trips) (k1_t114 : Fin (k1_t114_loop v2038 v2040 k1_t111).trips), ∀ a, (k1_off1547 v2038 v2040 k1_t111 k1_t114) a + S1x16.size a ≤ S72x256.size a) ∧
  (∀ (k1_t111 : Fin (k1_t111_loop v2038 v2040).trips) (k1_t114 : Fin (k1_t114_loop v2038 v2040 k1_t111).trips), ∀ a, (k1_off1548 v2038 v2040 k1_t111 k1_t114) a + S1x16.size a ≤ S72x256.size a) ∧
  (∀ (k1_t111 : Fin (k1_t111_loop v2038 v2040).trips) (k1_t114 : Fin (k1_t114_loop v2038 v2040 k1_t111).trips), ∀ a, (k1_off1549 v2038 v2040 k1_t111 k1_t114) a + S1x16.size a ≤ S72x256.size a) ∧
  (∀ (k1_t111 : Fin (k1_t111_loop v2038 v2040).trips) (k1_t114 : Fin (k1_t114_loop v2038 v2040 k1_t111).trips), ∀ a, (k1_off1550 v2038 v2040 k1_t111 k1_t114) a + S1x16.size a ≤ S72x256.size a) ∧
  (∀ (k1_t111 : Fin (k1_t111_loop v2038 v2040).trips) (k1_t114 : Fin (k1_t114_loop v2038 v2040 k1_t111).trips), ∀ a, (k1_off1551 v2038 v2040 k1_t111 k1_t114) a + S1x16.size a ≤ S72x256.size a) ∧
  (∀ (k1_t111 : Fin (k1_t111_loop v2038 v2040).trips) (k1_t114 : Fin (k1_t114_loop v2038 v2040 k1_t111).trips), ∀ a, (k1_off1552 v2038 v2040 k1_t111 k1_t114) a + S1x16.size a ≤ S72x256.size a) ∧
  (∀ (k1_t111 : Fin (k1_t111_loop v2038 v2040).trips) (k1_t114 : Fin (k1_t114_loop v2038 v2040 k1_t111).trips), ∀ a, (k1_off1553 v2038 v2040 k1_t111 k1_t114) a + S1x16.size a ≤ S72x256.size a) ∧
  (∀ (k1_t111 : Fin (k1_t111_loop v2038 v2040).trips) (k1_t114 : Fin (k1_t114_loop v2038 v2040 k1_t111).trips), ∀ a, (k1_off1554 v2038 v2040 k1_t111 k1_t114) a + S1x16.size a ≤ S72x256.size a) ∧
  (∀ (k1_t111 : Fin (k1_t111_loop v2038 v2040).trips) (k1_t114 : Fin (k1_t114_loop v2038 v2040 k1_t111).trips), ∀ a, (k1_off1555 v2038 v2040 k1_t111 k1_t114) a + S1x16.size a ≤ S72x256.size a) ∧
  (∀ (k1_t111 : Fin (k1_t111_loop v2038 v2040).trips) (k1_t114 : Fin (k1_t114_loop v2038 v2040 k1_t111).trips), ∀ a, (k1_off1556 v2038 v2040 k1_t111 k1_t114) a + S1x16.size a ≤ S72x256.size a) ∧
  (∀ (k1_t111 : Fin (k1_t111_loop v2038 v2040).trips) (k1_t114 : Fin (k1_t114_loop v2038 v2040 k1_t111).trips), ∀ a, (k1_off1557 v2038 v2040 k1_t111 k1_t114) a + S1x16.size a ≤ S72x256.size a) ∧
  (∀ (k1_t111 : Fin (k1_t111_loop v2038 v2040).trips) (k1_t114 : Fin (k1_t114_loop v2038 v2040 k1_t111).trips), ∀ a, (k1_off1558 v2038 v2040 k1_t111 k1_t114) a + S1x16.size a ≤ S72x256.size a) ∧
  (∀ (k1_t111 : Fin (k1_t111_loop v2038 v2040).trips) (k1_t114 : Fin (k1_t114_loop v2038 v2040 k1_t111).trips), ∀ a, (k1_off1559 v2038 v2040 k1_t111 k1_t114) a + S1x16.size a ≤ S72x256.size a) ∧
  (∀ (k1_t111 : Fin (k1_t111_loop v2038 v2040).trips) (k1_t114 : Fin (k1_t114_loop v2038 v2040 k1_t111).trips), ∀ a, (k1_off1560 v2038 v2040 k1_t111 k1_t114) a + S1x16.size a ≤ S72x256.size a) ∧
  (∀ (k1_t111 : Fin (k1_t111_loop v2038 v2040).trips) (k1_t114 : Fin (k1_t114_loop v2038 v2040 k1_t111).trips), ∀ a, (k1_off1561 v2038 v2040 k1_t111 k1_t114) a + S1x16.size a ≤ S72x256.size a) ∧
  (∀ k1_t111 : Fin (k1_t111_loop v2038 v2040).trips, (k1_t115_loop v2038 v2040 k1_t111).OK) ∧
  (∀ (k1_t111 : Fin (k1_t111_loop v2038 v2040).trips) (k1_t115 : Fin (k1_t115_loop v2038 v2040 k1_t111).trips), ∀ a, (k1_off1562 v2038 v2040 k1_t111 k1_t115) a + S1x16.size a ≤ S72x256.size a) ∧
  (∀ (k1_t111 : Fin (k1_t111_loop v2038 v2040).trips) (k1_t115 : Fin (k1_t115_loop v2038 v2040 k1_t111).trips), ∀ a, (k1_off1563 v2038 v2040 k1_t111 k1_t115) a + S1x16.size a ≤ S72x256.size a) ∧
  (∀ (k1_t111 : Fin (k1_t111_loop v2038 v2040).trips) (k1_t115 : Fin (k1_t115_loop v2038 v2040 k1_t111).trips), ∀ a, (k1_off1564 v2038 v2040 k1_t111 k1_t115) a + S1x16.size a ≤ S72x256.size a) ∧
  (∀ (k1_t111 : Fin (k1_t111_loop v2038 v2040).trips) (k1_t115 : Fin (k1_t115_loop v2038 v2040 k1_t111).trips), ∀ a, (k1_off1565 v2038 v2040 k1_t111 k1_t115) a + S1x16.size a ≤ S72x256.size a) ∧
  (∀ (k1_t111 : Fin (k1_t111_loop v2038 v2040).trips) (k1_t115 : Fin (k1_t115_loop v2038 v2040 k1_t111).trips), ∀ a, (k1_off1566 v2038 v2040 k1_t111 k1_t115) a + S1x16.size a ≤ S72x256.size a) ∧
  (∀ (k1_t111 : Fin (k1_t111_loop v2038 v2040).trips) (k1_t115 : Fin (k1_t115_loop v2038 v2040 k1_t111).trips), ∀ a, (k1_off1567 v2038 v2040 k1_t111 k1_t115) a + S1x16.size a ≤ S72x256.size a)
def k1_chk12_2 (i : grid1.Coords) (v2038 : BitVec 32) (v2040 : BitVec 32) : Prop :=
  (∀ (k1_t111 : Fin (k1_t111_loop v2038 v2040).trips) (k1_t115 : Fin (k1_t115_loop v2038 v2040 k1_t111).trips), ∀ a, (k1_off1568 v2038 v2040 k1_t111 k1_t115) a + S1x16.size a ≤ S72x256.size a) ∧
  (∀ (k1_t111 : Fin (k1_t111_loop v2038 v2040).trips) (k1_t115 : Fin (k1_t115_loop v2038 v2040 k1_t111).trips), ∀ a, (k1_off1569 v2038 v2040 k1_t111 k1_t115) a + S1x16.size a ≤ S72x256.size a) ∧
  (∀ (k1_t111 : Fin (k1_t111_loop v2038 v2040).trips) (k1_t115 : Fin (k1_t115_loop v2038 v2040 k1_t111).trips), ∀ a, (k1_off1570 v2038 v2040 k1_t111 k1_t115) a + S1x16.size a ≤ S72x256.size a) ∧
  (∀ (k1_t111 : Fin (k1_t111_loop v2038 v2040).trips) (k1_t115 : Fin (k1_t115_loop v2038 v2040 k1_t111).trips), ∀ a, (k1_off1571 v2038 v2040 k1_t111 k1_t115) a + S1x16.size a ≤ S72x256.size a) ∧
  (∀ (k1_t111 : Fin (k1_t111_loop v2038 v2040).trips) (k1_t115 : Fin (k1_t115_loop v2038 v2040 k1_t111).trips), ∀ a, (k1_off1572 v2038 v2040 k1_t111 k1_t115) a + S1x16.size a ≤ S72x256.size a) ∧
  (∀ (k1_t111 : Fin (k1_t111_loop v2038 v2040).trips) (k1_t115 : Fin (k1_t115_loop v2038 v2040 k1_t111).trips), ∀ a, (k1_off1573 v2038 v2040 k1_t111 k1_t115) a + S1x16.size a ≤ S72x256.size a) ∧
  (∀ (k1_t111 : Fin (k1_t111_loop v2038 v2040).trips) (k1_t115 : Fin (k1_t115_loop v2038 v2040 k1_t111).trips), ∀ a, (k1_off1574 v2038 v2040 k1_t111 k1_t115) a + S1x16.size a ≤ S72x256.size a) ∧
  (∀ (k1_t111 : Fin (k1_t111_loop v2038 v2040).trips) (k1_t115 : Fin (k1_t115_loop v2038 v2040 k1_t111).trips), ∀ a, (k1_off1575 v2038 v2040 k1_t111 k1_t115) a + S1x16.size a ≤ S72x256.size a) ∧
  (∀ (k1_t111 : Fin (k1_t111_loop v2038 v2040).trips) (k1_t115 : Fin (k1_t115_loop v2038 v2040 k1_t111).trips), ∀ a, (k1_off1576 v2038 v2040 k1_t111 k1_t115) a + S1x16.size a ≤ S72x256.size a) ∧
  (∀ (k1_t111 : Fin (k1_t111_loop v2038 v2040).trips) (k1_t115 : Fin (k1_t115_loop v2038 v2040 k1_t111).trips), ∀ a, (k1_off1577 v2038 v2040 k1_t111 k1_t115) a + S1x16.size a ≤ S72x256.size a) ∧
  ((k1_t116_loop v2038 v2040).OK) ∧
  (∀ k1_t116 : Fin (k1_t116_loop v2038 v2040).trips, ∀ (k1_h105 : k1_cond105 v2038 v2040 k1_t116 = 1#1), ∀ a, (k1_off1578 i v2038 v2040 k1_t116) a + S72x256.size a ≤ S100000x512.size a) ∧
  (∀ k1_t116 : Fin (k1_t116_loop v2038 v2040).trips, ∀ (k1_h105 : k1_cond105 v2038 v2040 k1_t116 = 1#1), ∀ (k1_h106 : k1_cond106 v2038 v2040 k1_t116 = 1#1), ∀ a, (k1_off1579 i v2038 v2040 k1_t116) a + S72x256.size a ≤ S100000x512.size a) ∧
  (∀ k1_t116 : Fin (k1_t116_loop v2038 v2040).trips, (k1_t117_loop v2038 v2040 k1_t116).OK) ∧
  (∀ (k1_t116 : Fin (k1_t116_loop v2038 v2040).trips) (k1_t117 : Fin (k1_t117_loop v2038 v2040 k1_t116).trips), ∀ a, (k1_off1580 v2038 v2040 k1_t116 k1_t117) a + S1x16.size a ≤ S72x256.size a) ∧
  (∀ (k1_t116 : Fin (k1_t116_loop v2038 v2040).trips) (k1_t117 : Fin (k1_t117_loop v2038 v2040 k1_t116).trips), ∀ a, (k1_off1581 v2038 v2040 k1_t116 k1_t117) a + S1x16.size a ≤ S72x256.size a) ∧
  (∀ (k1_t116 : Fin (k1_t116_loop v2038 v2040).trips) (k1_t117 : Fin (k1_t117_loop v2038 v2040 k1_t116).trips), ∀ a, (k1_off1582 v2038 v2040 k1_t116 k1_t117) a + S1x16.size a ≤ S72x256.size a) ∧
  (∀ (k1_t116 : Fin (k1_t116_loop v2038 v2040).trips) (k1_t117 : Fin (k1_t117_loop v2038 v2040 k1_t116).trips), ∀ a, (k1_off1583 v2038 v2040 k1_t116 k1_t117) a + S1x16.size a ≤ S72x256.size a) ∧
  (∀ (k1_t116 : Fin (k1_t116_loop v2038 v2040).trips) (k1_t117 : Fin (k1_t117_loop v2038 v2040 k1_t116).trips), ∀ a, (k1_off1584 v2038 v2040 k1_t116 k1_t117) a + S1x16.size a ≤ S72x256.size a) ∧
  (∀ (k1_t116 : Fin (k1_t116_loop v2038 v2040).trips) (k1_t117 : Fin (k1_t117_loop v2038 v2040 k1_t116).trips), ∀ a, (k1_off1585 v2038 v2040 k1_t116 k1_t117) a + S1x16.size a ≤ S72x256.size a) ∧
  (∀ (k1_t116 : Fin (k1_t116_loop v2038 v2040).trips) (k1_t117 : Fin (k1_t117_loop v2038 v2040 k1_t116).trips), ∀ a, (k1_off1586 v2038 v2040 k1_t116 k1_t117) a + S1x16.size a ≤ S72x256.size a) ∧
  (∀ (k1_t116 : Fin (k1_t116_loop v2038 v2040).trips) (k1_t117 : Fin (k1_t117_loop v2038 v2040 k1_t116).trips), ∀ a, (k1_off1587 v2038 v2040 k1_t116 k1_t117) a + S1x16.size a ≤ S72x256.size a) ∧
  (∀ (k1_t116 : Fin (k1_t116_loop v2038 v2040).trips) (k1_t117 : Fin (k1_t117_loop v2038 v2040 k1_t116).trips), ∀ a, (k1_off1588 v2038 v2040 k1_t116 k1_t117) a + S1x16.size a ≤ S72x256.size a) ∧
  (∀ (k1_t116 : Fin (k1_t116_loop v2038 v2040).trips) (k1_t117 : Fin (k1_t117_loop v2038 v2040 k1_t116).trips), ∀ a, (k1_off1589 v2038 v2040 k1_t116 k1_t117) a + S1x16.size a ≤ S72x256.size a) ∧
  (∀ (k1_t116 : Fin (k1_t116_loop v2038 v2040).trips) (k1_t117 : Fin (k1_t117_loop v2038 v2040 k1_t116).trips), ∀ a, (k1_off1590 v2038 v2040 k1_t116 k1_t117) a + S1x16.size a ≤ S72x256.size a) ∧
  (∀ (k1_t116 : Fin (k1_t116_loop v2038 v2040).trips) (k1_t117 : Fin (k1_t117_loop v2038 v2040 k1_t116).trips), ∀ a, (k1_off1591 v2038 v2040 k1_t116 k1_t117) a + S1x16.size a ≤ S72x256.size a) ∧
  (∀ (k1_t116 : Fin (k1_t116_loop v2038 v2040).trips) (k1_t117 : Fin (k1_t117_loop v2038 v2040 k1_t116).trips), ∀ a, (k1_off1592 v2038 v2040 k1_t116 k1_t117) a + S1x16.size a ≤ S72x256.size a) ∧
  (∀ (k1_t116 : Fin (k1_t116_loop v2038 v2040).trips) (k1_t117 : Fin (k1_t117_loop v2038 v2040 k1_t116).trips), ∀ a, (k1_off1593 v2038 v2040 k1_t116 k1_t117) a + S1x16.size a ≤ S72x256.size a) ∧
  (∀ (k1_t116 : Fin (k1_t116_loop v2038 v2040).trips) (k1_t117 : Fin (k1_t117_loop v2038 v2040 k1_t116).trips), ∀ a, (k1_off1594 v2038 v2040 k1_t116 k1_t117) a + S1x16.size a ≤ S72x256.size a) ∧
  (∀ (k1_t116 : Fin (k1_t116_loop v2038 v2040).trips) (k1_t117 : Fin (k1_t117_loop v2038 v2040 k1_t116).trips), ∀ a, (k1_off1595 v2038 v2040 k1_t116 k1_t117) a + S1x16.size a ≤ S72x256.size a) ∧
  (∀ k1_t116 : Fin (k1_t116_loop v2038 v2040).trips, (k1_t118_loop v2038 v2040 k1_t116).OK) ∧
  (∀ (k1_t116 : Fin (k1_t116_loop v2038 v2040).trips) (k1_t118 : Fin (k1_t118_loop v2038 v2040 k1_t116).trips), ∀ a, (k1_off1596 v2038 v2040 k1_t116 k1_t118) a + S1x16.size a ≤ S72x256.size a)
def k1_chk12_3 (i : grid1.Coords) (v2038 : BitVec 32) (v2040 : BitVec 32) : Prop :=
  (∀ (k1_t116 : Fin (k1_t116_loop v2038 v2040).trips) (k1_t118 : Fin (k1_t118_loop v2038 v2040 k1_t116).trips), ∀ a, (k1_off1597 v2038 v2040 k1_t116 k1_t118) a + S1x16.size a ≤ S72x256.size a) ∧
  (∀ (k1_t116 : Fin (k1_t116_loop v2038 v2040).trips) (k1_t118 : Fin (k1_t118_loop v2038 v2040 k1_t116).trips), ∀ a, (k1_off1598 v2038 v2040 k1_t116 k1_t118) a + S1x16.size a ≤ S72x256.size a) ∧
  (∀ (k1_t116 : Fin (k1_t116_loop v2038 v2040).trips) (k1_t118 : Fin (k1_t118_loop v2038 v2040 k1_t116).trips), ∀ a, (k1_off1599 v2038 v2040 k1_t116 k1_t118) a + S1x16.size a ≤ S72x256.size a) ∧
  (∀ (k1_t116 : Fin (k1_t116_loop v2038 v2040).trips) (k1_t118 : Fin (k1_t118_loop v2038 v2040 k1_t116).trips), ∀ a, (k1_off1600 v2038 v2040 k1_t116 k1_t118) a + S1x16.size a ≤ S72x256.size a) ∧
  (∀ (k1_t116 : Fin (k1_t116_loop v2038 v2040).trips) (k1_t118 : Fin (k1_t118_loop v2038 v2040 k1_t116).trips), ∀ a, (k1_off1601 v2038 v2040 k1_t116 k1_t118) a + S1x16.size a ≤ S72x256.size a) ∧
  (∀ (k1_t116 : Fin (k1_t116_loop v2038 v2040).trips) (k1_t118 : Fin (k1_t118_loop v2038 v2040 k1_t116).trips), ∀ a, (k1_off1602 v2038 v2040 k1_t116 k1_t118) a + S1x16.size a ≤ S72x256.size a) ∧
  (∀ (k1_t116 : Fin (k1_t116_loop v2038 v2040).trips) (k1_t118 : Fin (k1_t118_loop v2038 v2040 k1_t116).trips), ∀ a, (k1_off1603 v2038 v2040 k1_t116 k1_t118) a + S1x16.size a ≤ S72x256.size a) ∧
  (∀ (k1_t116 : Fin (k1_t116_loop v2038 v2040).trips) (k1_t118 : Fin (k1_t118_loop v2038 v2040 k1_t116).trips), ∀ a, (k1_off1604 v2038 v2040 k1_t116 k1_t118) a + S1x16.size a ≤ S72x256.size a) ∧
  (∀ (k1_t116 : Fin (k1_t116_loop v2038 v2040).trips) (k1_t118 : Fin (k1_t118_loop v2038 v2040 k1_t116).trips), ∀ a, (k1_off1605 v2038 v2040 k1_t116 k1_t118) a + S1x16.size a ≤ S72x256.size a) ∧
  (∀ (k1_t116 : Fin (k1_t116_loop v2038 v2040).trips) (k1_t118 : Fin (k1_t118_loop v2038 v2040 k1_t116).trips), ∀ a, (k1_off1606 v2038 v2040 k1_t116 k1_t118) a + S1x16.size a ≤ S72x256.size a) ∧
  (∀ (k1_t116 : Fin (k1_t116_loop v2038 v2040).trips) (k1_t118 : Fin (k1_t118_loop v2038 v2040 k1_t116).trips), ∀ a, (k1_off1607 v2038 v2040 k1_t116 k1_t118) a + S1x16.size a ≤ S72x256.size a) ∧
  (∀ (k1_t116 : Fin (k1_t116_loop v2038 v2040).trips) (k1_t118 : Fin (k1_t118_loop v2038 v2040 k1_t116).trips), ∀ a, (k1_off1608 v2038 v2040 k1_t116 k1_t118) a + S1x16.size a ≤ S72x256.size a) ∧
  (∀ (k1_t116 : Fin (k1_t116_loop v2038 v2040).trips) (k1_t118 : Fin (k1_t118_loop v2038 v2040 k1_t116).trips), ∀ a, (k1_off1609 v2038 v2040 k1_t116 k1_t118) a + S1x16.size a ≤ S72x256.size a) ∧
  (∀ (k1_t116 : Fin (k1_t116_loop v2038 v2040).trips) (k1_t118 : Fin (k1_t118_loop v2038 v2040 k1_t116).trips), ∀ a, (k1_off1610 v2038 v2040 k1_t116 k1_t118) a + S1x16.size a ≤ S72x256.size a) ∧
  (∀ (k1_t116 : Fin (k1_t116_loop v2038 v2040).trips) (k1_t118 : Fin (k1_t118_loop v2038 v2040 k1_t116).trips), ∀ a, (k1_off1611 v2038 v2040 k1_t116 k1_t118) a + S1x16.size a ≤ S72x256.size a) ∧
  (∀ k1_t116 : Fin (k1_t116_loop v2038 v2040).trips, ∀ (k1_h107 : k1_cond107 v2038 v2040 k1_t116 = 1#1), ∀ a, (k1_off1612 i v2038 v2040 k1_t116) a + S72x256.size a ≤ S100000x512.size a) ∧
  (∀ k1_t116 : Fin (k1_t116_loop v2038 v2040).trips, ∀ (k1_h107 : k1_cond107 v2038 v2040 k1_t116 = 1#1), ∀ (k1_h108 : k1_cond108 v2038 v2040 k1_t116 = 1#1), ∀ a, (k1_off1613 i v2038 v2040 k1_t116) a + S72x256.size a ≤ S100000x512.size a) ∧
  (∀ k1_t116 : Fin (k1_t116_loop v2038 v2040).trips, (k1_t119_loop v2038 v2040 k1_t116).OK) ∧
  (∀ (k1_t116 : Fin (k1_t116_loop v2038 v2040).trips) (k1_t119 : Fin (k1_t119_loop v2038 v2040 k1_t116).trips), ∀ a, (k1_off1614 v2038 v2040 k1_t116 k1_t119) a + S1x16.size a ≤ S72x256.size a) ∧
  (∀ (k1_t116 : Fin (k1_t116_loop v2038 v2040).trips) (k1_t119 : Fin (k1_t119_loop v2038 v2040 k1_t116).trips), ∀ a, (k1_off1615 v2038 v2040 k1_t116 k1_t119) a + S1x16.size a ≤ S72x256.size a) ∧
  (∀ (k1_t116 : Fin (k1_t116_loop v2038 v2040).trips) (k1_t119 : Fin (k1_t119_loop v2038 v2040 k1_t116).trips), ∀ a, (k1_off1616 v2038 v2040 k1_t116 k1_t119) a + S1x16.size a ≤ S72x256.size a) ∧
  (∀ (k1_t116 : Fin (k1_t116_loop v2038 v2040).trips) (k1_t119 : Fin (k1_t119_loop v2038 v2040 k1_t116).trips), ∀ a, (k1_off1617 v2038 v2040 k1_t116 k1_t119) a + S1x16.size a ≤ S72x256.size a) ∧
  (∀ (k1_t116 : Fin (k1_t116_loop v2038 v2040).trips) (k1_t119 : Fin (k1_t119_loop v2038 v2040 k1_t116).trips), ∀ a, (k1_off1618 v2038 v2040 k1_t116 k1_t119) a + S1x16.size a ≤ S72x256.size a) ∧
  (∀ (k1_t116 : Fin (k1_t116_loop v2038 v2040).trips) (k1_t119 : Fin (k1_t119_loop v2038 v2040 k1_t116).trips), ∀ a, (k1_off1619 v2038 v2040 k1_t116 k1_t119) a + S1x16.size a ≤ S72x256.size a) ∧
  (∀ (k1_t116 : Fin (k1_t116_loop v2038 v2040).trips) (k1_t119 : Fin (k1_t119_loop v2038 v2040 k1_t116).trips), ∀ a, (k1_off1620 v2038 v2040 k1_t116 k1_t119) a + S1x16.size a ≤ S72x256.size a) ∧
  (∀ (k1_t116 : Fin (k1_t116_loop v2038 v2040).trips) (k1_t119 : Fin (k1_t119_loop v2038 v2040 k1_t116).trips), ∀ a, (k1_off1621 v2038 v2040 k1_t116 k1_t119) a + S1x16.size a ≤ S72x256.size a) ∧
  (∀ (k1_t116 : Fin (k1_t116_loop v2038 v2040).trips) (k1_t119 : Fin (k1_t119_loop v2038 v2040 k1_t116).trips), ∀ a, (k1_off1622 v2038 v2040 k1_t116 k1_t119) a + S1x16.size a ≤ S72x256.size a) ∧
  (∀ (k1_t116 : Fin (k1_t116_loop v2038 v2040).trips) (k1_t119 : Fin (k1_t119_loop v2038 v2040 k1_t116).trips), ∀ a, (k1_off1623 v2038 v2040 k1_t116 k1_t119) a + S1x16.size a ≤ S72x256.size a) ∧
  (∀ (k1_t116 : Fin (k1_t116_loop v2038 v2040).trips) (k1_t119 : Fin (k1_t119_loop v2038 v2040 k1_t116).trips), ∀ a, (k1_off1624 v2038 v2040 k1_t116 k1_t119) a + S1x16.size a ≤ S72x256.size a) ∧
  (∀ (k1_t116 : Fin (k1_t116_loop v2038 v2040).trips) (k1_t119 : Fin (k1_t119_loop v2038 v2040 k1_t116).trips), ∀ a, (k1_off1625 v2038 v2040 k1_t116 k1_t119) a + S1x16.size a ≤ S72x256.size a) ∧
  (∀ (k1_t116 : Fin (k1_t116_loop v2038 v2040).trips) (k1_t119 : Fin (k1_t119_loop v2038 v2040 k1_t116).trips), ∀ a, (k1_off1626 v2038 v2040 k1_t116 k1_t119) a + S1x16.size a ≤ S72x256.size a) ∧
  (∀ (k1_t116 : Fin (k1_t116_loop v2038 v2040).trips) (k1_t119 : Fin (k1_t119_loop v2038 v2040 k1_t116).trips), ∀ a, (k1_off1627 v2038 v2040 k1_t116 k1_t119) a + S1x16.size a ≤ S72x256.size a)
def k1_chk12_4 (i : grid1.Coords) (v2038 : BitVec 32) (v2040 : BitVec 32) : Prop :=
  (∀ (k1_t116 : Fin (k1_t116_loop v2038 v2040).trips) (k1_t119 : Fin (k1_t119_loop v2038 v2040 k1_t116).trips), ∀ a, (k1_off1628 v2038 v2040 k1_t116 k1_t119) a + S1x16.size a ≤ S72x256.size a) ∧
  (∀ (k1_t116 : Fin (k1_t116_loop v2038 v2040).trips) (k1_t119 : Fin (k1_t119_loop v2038 v2040 k1_t116).trips), ∀ a, (k1_off1629 v2038 v2040 k1_t116 k1_t119) a + S1x16.size a ≤ S72x256.size a) ∧
  (∀ k1_t116 : Fin (k1_t116_loop v2038 v2040).trips, (k1_t120_loop v2038 v2040 k1_t116).OK) ∧
  (∀ (k1_t116 : Fin (k1_t116_loop v2038 v2040).trips) (k1_t120 : Fin (k1_t120_loop v2038 v2040 k1_t116).trips), ∀ a, (k1_off1630 v2038 v2040 k1_t116 k1_t120) a + S1x16.size a ≤ S72x256.size a) ∧
  (∀ (k1_t116 : Fin (k1_t116_loop v2038 v2040).trips) (k1_t120 : Fin (k1_t120_loop v2038 v2040 k1_t116).trips), ∀ a, (k1_off1631 v2038 v2040 k1_t116 k1_t120) a + S1x16.size a ≤ S72x256.size a) ∧
  (∀ (k1_t116 : Fin (k1_t116_loop v2038 v2040).trips) (k1_t120 : Fin (k1_t120_loop v2038 v2040 k1_t116).trips), ∀ a, (k1_off1632 v2038 v2040 k1_t116 k1_t120) a + S1x16.size a ≤ S72x256.size a) ∧
  (∀ (k1_t116 : Fin (k1_t116_loop v2038 v2040).trips) (k1_t120 : Fin (k1_t120_loop v2038 v2040 k1_t116).trips), ∀ a, (k1_off1633 v2038 v2040 k1_t116 k1_t120) a + S1x16.size a ≤ S72x256.size a) ∧
  (∀ (k1_t116 : Fin (k1_t116_loop v2038 v2040).trips) (k1_t120 : Fin (k1_t120_loop v2038 v2040 k1_t116).trips), ∀ a, (k1_off1634 v2038 v2040 k1_t116 k1_t120) a + S1x16.size a ≤ S72x256.size a) ∧
  (∀ (k1_t116 : Fin (k1_t116_loop v2038 v2040).trips) (k1_t120 : Fin (k1_t120_loop v2038 v2040 k1_t116).trips), ∀ a, (k1_off1635 v2038 v2040 k1_t116 k1_t120) a + S1x16.size a ≤ S72x256.size a) ∧
  (∀ (k1_t116 : Fin (k1_t116_loop v2038 v2040).trips) (k1_t120 : Fin (k1_t120_loop v2038 v2040 k1_t116).trips), ∀ a, (k1_off1636 v2038 v2040 k1_t116 k1_t120) a + S1x16.size a ≤ S72x256.size a) ∧
  (∀ (k1_t116 : Fin (k1_t116_loop v2038 v2040).trips) (k1_t120 : Fin (k1_t120_loop v2038 v2040 k1_t116).trips), ∀ a, (k1_off1637 v2038 v2040 k1_t116 k1_t120) a + S1x16.size a ≤ S72x256.size a) ∧
  (∀ (k1_t116 : Fin (k1_t116_loop v2038 v2040).trips) (k1_t120 : Fin (k1_t120_loop v2038 v2040 k1_t116).trips), ∀ a, (k1_off1638 v2038 v2040 k1_t116 k1_t120) a + S1x16.size a ≤ S72x256.size a) ∧
  (∀ (k1_t116 : Fin (k1_t116_loop v2038 v2040).trips) (k1_t120 : Fin (k1_t120_loop v2038 v2040 k1_t116).trips), ∀ a, (k1_off1639 v2038 v2040 k1_t116 k1_t120) a + S1x16.size a ≤ S72x256.size a) ∧
  (∀ (k1_t116 : Fin (k1_t116_loop v2038 v2040).trips) (k1_t120 : Fin (k1_t120_loop v2038 v2040 k1_t116).trips), ∀ a, (k1_off1640 v2038 v2040 k1_t116 k1_t120) a + S1x16.size a ≤ S72x256.size a) ∧
  (∀ (k1_t116 : Fin (k1_t116_loop v2038 v2040).trips) (k1_t120 : Fin (k1_t120_loop v2038 v2040 k1_t116).trips), ∀ a, (k1_off1641 v2038 v2040 k1_t116 k1_t120) a + S1x16.size a ≤ S72x256.size a) ∧
  (∀ (k1_t116 : Fin (k1_t116_loop v2038 v2040).trips) (k1_t120 : Fin (k1_t120_loop v2038 v2040 k1_t116).trips), ∀ a, (k1_off1642 v2038 v2040 k1_t116 k1_t120) a + S1x16.size a ≤ S72x256.size a) ∧
  (∀ (k1_t116 : Fin (k1_t116_loop v2038 v2040).trips) (k1_t120 : Fin (k1_t120_loop v2038 v2040 k1_t116).trips), ∀ a, (k1_off1643 v2038 v2040 k1_t116 k1_t120) a + S1x16.size a ≤ S72x256.size a) ∧
  (∀ (k1_t116 : Fin (k1_t116_loop v2038 v2040).trips) (k1_t120 : Fin (k1_t120_loop v2038 v2040 k1_t116).trips), ∀ a, (k1_off1644 v2038 v2040 k1_t116 k1_t120) a + S1x16.size a ≤ S72x256.size a) ∧
  (∀ (k1_t116 : Fin (k1_t116_loop v2038 v2040).trips) (k1_t120 : Fin (k1_t120_loop v2038 v2040 k1_t116).trips), ∀ a, (k1_off1645 v2038 v2040 k1_t116 k1_t120) a + S1x16.size a ≤ S72x256.size a)
def k1_chk12 (i : grid1.Coords) (v2038 : BitVec 32) (v2040 : BitVec 32) : Prop :=
  k1_chk12_0 i v2038 v2040 ∧
  k1_chk12_1 i v2038 v2040 ∧
  k1_chk12_2 i v2038 v2040 ∧
  k1_chk12_3 i v2038 v2040 ∧
  k1_chk12_4 i v2038 v2040
theorem k1_off1509_inb : ∀ (i : grid1.Coords) (v2038 : BitVec 32) (v2040 : BitVec 32) (k1_hw12 : k1_chk12 i v2038 v2040), ∀ (k1_h100 : k1_cond100 v2038 v2040 = 1#1), ∀ a, (k1_off1509 i v2038) a + S72x256.size a ≤ S100000x512.size a := fun i v2038 v2040 k1_hw12 k1_h100 => k1_hw12.1.1 k1_h100
theorem k1_t111_ok : ∀ (i : grid1.Coords) (v2038 : BitVec 32) (v2040 : BitVec 32) (k1_hw12 : k1_chk12 i v2038 v2040), (k1_t111_loop v2038 v2040).OK := fun i v2038 v2040 k1_hw12 => k1_hw12.1.2.1
theorem k1_off1510_inb : ∀ (i : grid1.Coords) (v2038 : BitVec 32) (v2040 : BitVec 32) (k1_hw12 : k1_chk12 i v2038 v2040) (k1_t111 : Fin (k1_t111_loop v2038 v2040).trips), ∀ (k1_h101 : k1_cond101 v2038 v2040 k1_t111 = 1#1), ∀ a, (k1_off1510 i v2038 v2040 k1_t111) a + S72x256.size a ≤ S100000x512.size a := fun i v2038 v2040 k1_hw12 k1_t111 k1_h101 => k1_hw12.1.2.2.1 k1_t111 k1_h101
theorem k1_off1511_inb : ∀ (i : grid1.Coords) (v2038 : BitVec 32) (v2040 : BitVec 32) (k1_hw12 : k1_chk12 i v2038 v2040) (k1_t111 : Fin (k1_t111_loop v2038 v2040).trips), ∀ (k1_h101 : k1_cond101 v2038 v2040 k1_t111 = 1#1), ∀ (k1_h102 : k1_cond102 v2038 v2040 k1_t111 = 1#1), ∀ a, (k1_off1511 i v2038 v2040 k1_t111) a + S72x256.size a ≤ S100000x512.size a := fun i v2038 v2040 k1_hw12 k1_t111 k1_h101 k1_h102 => k1_hw12.1.2.2.2.1 k1_t111 k1_h101 k1_h102
theorem k1_t112_ok : ∀ (i : grid1.Coords) (v2038 : BitVec 32) (v2040 : BitVec 32) (k1_hw12 : k1_chk12 i v2038 v2040) (k1_t111 : Fin (k1_t111_loop v2038 v2040).trips), (k1_t112_loop v2038 v2040 k1_t111).OK := fun i v2038 v2040 k1_hw12 k1_t111 => k1_hw12.1.2.2.2.2.1 k1_t111
theorem k1_off1512_inb : ∀ (i : grid1.Coords) (v2038 : BitVec 32) (v2040 : BitVec 32) (k1_hw12 : k1_chk12 i v2038 v2040) (k1_t111 : Fin (k1_t111_loop v2038 v2040).trips) (k1_t112 : Fin (k1_t112_loop v2038 v2040 k1_t111).trips), ∀ a, (k1_off1512 v2038 v2040 k1_t111 k1_t112) a + S1x16.size a ≤ S72x256.size a := fun i v2038 v2040 k1_hw12 k1_t111 k1_t112 => k1_hw12.1.2.2.2.2.2.1 k1_t111 k1_t112
theorem k1_off1513_inb : ∀ (i : grid1.Coords) (v2038 : BitVec 32) (v2040 : BitVec 32) (k1_hw12 : k1_chk12 i v2038 v2040) (k1_t111 : Fin (k1_t111_loop v2038 v2040).trips) (k1_t112 : Fin (k1_t112_loop v2038 v2040 k1_t111).trips), ∀ a, (k1_off1513 v2038 v2040 k1_t111 k1_t112) a + S1x16.size a ≤ S72x256.size a := fun i v2038 v2040 k1_hw12 k1_t111 k1_t112 => k1_hw12.1.2.2.2.2.2.2.1 k1_t111 k1_t112
theorem k1_off1514_inb : ∀ (i : grid1.Coords) (v2038 : BitVec 32) (v2040 : BitVec 32) (k1_hw12 : k1_chk12 i v2038 v2040) (k1_t111 : Fin (k1_t111_loop v2038 v2040).trips) (k1_t112 : Fin (k1_t112_loop v2038 v2040 k1_t111).trips), ∀ a, (k1_off1514 v2038 v2040 k1_t111 k1_t112) a + S1x16.size a ≤ S72x256.size a := fun i v2038 v2040 k1_hw12 k1_t111 k1_t112 => k1_hw12.1.2.2.2.2.2.2.2.1 k1_t111 k1_t112
theorem k1_off1515_inb : ∀ (i : grid1.Coords) (v2038 : BitVec 32) (v2040 : BitVec 32) (k1_hw12 : k1_chk12 i v2038 v2040) (k1_t111 : Fin (k1_t111_loop v2038 v2040).trips) (k1_t112 : Fin (k1_t112_loop v2038 v2040 k1_t111).trips), ∀ a, (k1_off1515 v2038 v2040 k1_t111 k1_t112) a + S1x16.size a ≤ S72x256.size a := fun i v2038 v2040 k1_hw12 k1_t111 k1_t112 => k1_hw12.1.2.2.2.2.2.2.2.2.1 k1_t111 k1_t112
theorem k1_off1516_inb : ∀ (i : grid1.Coords) (v2038 : BitVec 32) (v2040 : BitVec 32) (k1_hw12 : k1_chk12 i v2038 v2040) (k1_t111 : Fin (k1_t111_loop v2038 v2040).trips) (k1_t112 : Fin (k1_t112_loop v2038 v2040 k1_t111).trips), ∀ a, (k1_off1516 v2038 v2040 k1_t111 k1_t112) a + S1x16.size a ≤ S72x256.size a := fun i v2038 v2040 k1_hw12 k1_t111 k1_t112 => k1_hw12.1.2.2.2.2.2.2.2.2.2.1 k1_t111 k1_t112
theorem k1_off1517_inb : ∀ (i : grid1.Coords) (v2038 : BitVec 32) (v2040 : BitVec 32) (k1_hw12 : k1_chk12 i v2038 v2040) (k1_t111 : Fin (k1_t111_loop v2038 v2040).trips) (k1_t112 : Fin (k1_t112_loop v2038 v2040 k1_t111).trips), ∀ a, (k1_off1517 v2038 v2040 k1_t111 k1_t112) a + S1x16.size a ≤ S72x256.size a := fun i v2038 v2040 k1_hw12 k1_t111 k1_t112 => k1_hw12.1.2.2.2.2.2.2.2.2.2.2.1 k1_t111 k1_t112
theorem k1_off1518_inb : ∀ (i : grid1.Coords) (v2038 : BitVec 32) (v2040 : BitVec 32) (k1_hw12 : k1_chk12 i v2038 v2040) (k1_t111 : Fin (k1_t111_loop v2038 v2040).trips) (k1_t112 : Fin (k1_t112_loop v2038 v2040 k1_t111).trips), ∀ a, (k1_off1518 v2038 v2040 k1_t111 k1_t112) a + S1x16.size a ≤ S72x256.size a := fun i v2038 v2040 k1_hw12 k1_t111 k1_t112 => k1_hw12.1.2.2.2.2.2.2.2.2.2.2.2.1 k1_t111 k1_t112
theorem k1_off1519_inb : ∀ (i : grid1.Coords) (v2038 : BitVec 32) (v2040 : BitVec 32) (k1_hw12 : k1_chk12 i v2038 v2040) (k1_t111 : Fin (k1_t111_loop v2038 v2040).trips) (k1_t112 : Fin (k1_t112_loop v2038 v2040 k1_t111).trips), ∀ a, (k1_off1519 v2038 v2040 k1_t111 k1_t112) a + S1x16.size a ≤ S72x256.size a := fun i v2038 v2040 k1_hw12 k1_t111 k1_t112 => k1_hw12.1.2.2.2.2.2.2.2.2.2.2.2.2.1 k1_t111 k1_t112
theorem k1_off1520_inb : ∀ (i : grid1.Coords) (v2038 : BitVec 32) (v2040 : BitVec 32) (k1_hw12 : k1_chk12 i v2038 v2040) (k1_t111 : Fin (k1_t111_loop v2038 v2040).trips) (k1_t112 : Fin (k1_t112_loop v2038 v2040 k1_t111).trips), ∀ a, (k1_off1520 v2038 v2040 k1_t111 k1_t112) a + S1x16.size a ≤ S72x256.size a := fun i v2038 v2040 k1_hw12 k1_t111 k1_t112 => k1_hw12.1.2.2.2.2.2.2.2.2.2.2.2.2.2.1 k1_t111 k1_t112
theorem k1_off1521_inb : ∀ (i : grid1.Coords) (v2038 : BitVec 32) (v2040 : BitVec 32) (k1_hw12 : k1_chk12 i v2038 v2040) (k1_t111 : Fin (k1_t111_loop v2038 v2040).trips) (k1_t112 : Fin (k1_t112_loop v2038 v2040 k1_t111).trips), ∀ a, (k1_off1521 v2038 v2040 k1_t111 k1_t112) a + S1x16.size a ≤ S72x256.size a := fun i v2038 v2040 k1_hw12 k1_t111 k1_t112 => k1_hw12.1.2.2.2.2.2.2.2.2.2.2.2.2.2.2.1 k1_t111 k1_t112
theorem k1_off1522_inb : ∀ (i : grid1.Coords) (v2038 : BitVec 32) (v2040 : BitVec 32) (k1_hw12 : k1_chk12 i v2038 v2040) (k1_t111 : Fin (k1_t111_loop v2038 v2040).trips) (k1_t112 : Fin (k1_t112_loop v2038 v2040 k1_t111).trips), ∀ a, (k1_off1522 v2038 v2040 k1_t111 k1_t112) a + S1x16.size a ≤ S72x256.size a := fun i v2038 v2040 k1_hw12 k1_t111 k1_t112 => k1_hw12.1.2.2.2.2.2.2.2.2.2.2.2.2.2.2.2.1 k1_t111 k1_t112
theorem k1_off1523_inb : ∀ (i : grid1.Coords) (v2038 : BitVec 32) (v2040 : BitVec 32) (k1_hw12 : k1_chk12 i v2038 v2040) (k1_t111 : Fin (k1_t111_loop v2038 v2040).trips) (k1_t112 : Fin (k1_t112_loop v2038 v2040 k1_t111).trips), ∀ a, (k1_off1523 v2038 v2040 k1_t111 k1_t112) a + S1x16.size a ≤ S72x256.size a := fun i v2038 v2040 k1_hw12 k1_t111 k1_t112 => k1_hw12.1.2.2.2.2.2.2.2.2.2.2.2.2.2.2.2.2.1 k1_t111 k1_t112
theorem k1_off1524_inb : ∀ (i : grid1.Coords) (v2038 : BitVec 32) (v2040 : BitVec 32) (k1_hw12 : k1_chk12 i v2038 v2040) (k1_t111 : Fin (k1_t111_loop v2038 v2040).trips) (k1_t112 : Fin (k1_t112_loop v2038 v2040 k1_t111).trips), ∀ a, (k1_off1524 v2038 v2040 k1_t111 k1_t112) a + S1x16.size a ≤ S72x256.size a := fun i v2038 v2040 k1_hw12 k1_t111 k1_t112 => k1_hw12.1.2.2.2.2.2.2.2.2.2.2.2.2.2.2.2.2.2.1 k1_t111 k1_t112
theorem k1_off1525_inb : ∀ (i : grid1.Coords) (v2038 : BitVec 32) (v2040 : BitVec 32) (k1_hw12 : k1_chk12 i v2038 v2040) (k1_t111 : Fin (k1_t111_loop v2038 v2040).trips) (k1_t112 : Fin (k1_t112_loop v2038 v2040 k1_t111).trips), ∀ a, (k1_off1525 v2038 v2040 k1_t111 k1_t112) a + S1x16.size a ≤ S72x256.size a := fun i v2038 v2040 k1_hw12 k1_t111 k1_t112 => k1_hw12.1.2.2.2.2.2.2.2.2.2.2.2.2.2.2.2.2.2.2.1 k1_t111 k1_t112
theorem k1_off1526_inb : ∀ (i : grid1.Coords) (v2038 : BitVec 32) (v2040 : BitVec 32) (k1_hw12 : k1_chk12 i v2038 v2040) (k1_t111 : Fin (k1_t111_loop v2038 v2040).trips) (k1_t112 : Fin (k1_t112_loop v2038 v2040 k1_t111).trips), ∀ a, (k1_off1526 v2038 v2040 k1_t111 k1_t112) a + S1x16.size a ≤ S72x256.size a := fun i v2038 v2040 k1_hw12 k1_t111 k1_t112 => k1_hw12.1.2.2.2.2.2.2.2.2.2.2.2.2.2.2.2.2.2.2.2.1 k1_t111 k1_t112
theorem k1_off1527_inb : ∀ (i : grid1.Coords) (v2038 : BitVec 32) (v2040 : BitVec 32) (k1_hw12 : k1_chk12 i v2038 v2040) (k1_t111 : Fin (k1_t111_loop v2038 v2040).trips) (k1_t112 : Fin (k1_t112_loop v2038 v2040 k1_t111).trips), ∀ a, (k1_off1527 v2038 v2040 k1_t111 k1_t112) a + S1x16.size a ≤ S72x256.size a := fun i v2038 v2040 k1_hw12 k1_t111 k1_t112 => k1_hw12.1.2.2.2.2.2.2.2.2.2.2.2.2.2.2.2.2.2.2.2.2.1 k1_t111 k1_t112
theorem k1_t113_ok : ∀ (i : grid1.Coords) (v2038 : BitVec 32) (v2040 : BitVec 32) (k1_hw12 : k1_chk12 i v2038 v2040) (k1_t111 : Fin (k1_t111_loop v2038 v2040).trips), (k1_t113_loop v2038 v2040 k1_t111).OK := fun i v2038 v2040 k1_hw12 k1_t111 => k1_hw12.1.2.2.2.2.2.2.2.2.2.2.2.2.2.2.2.2.2.2.2.2.2.1 k1_t111
theorem k1_off1528_inb : ∀ (i : grid1.Coords) (v2038 : BitVec 32) (v2040 : BitVec 32) (k1_hw12 : k1_chk12 i v2038 v2040) (k1_t111 : Fin (k1_t111_loop v2038 v2040).trips) (k1_t113 : Fin (k1_t113_loop v2038 v2040 k1_t111).trips), ∀ a, (k1_off1528 v2038 v2040 k1_t111 k1_t113) a + S1x16.size a ≤ S72x256.size a := fun i v2038 v2040 k1_hw12 k1_t111 k1_t113 => k1_hw12.1.2.2.2.2.2.2.2.2.2.2.2.2.2.2.2.2.2.2.2.2.2.2.1 k1_t111 k1_t113
theorem k1_off1529_inb : ∀ (i : grid1.Coords) (v2038 : BitVec 32) (v2040 : BitVec 32) (k1_hw12 : k1_chk12 i v2038 v2040) (k1_t111 : Fin (k1_t111_loop v2038 v2040).trips) (k1_t113 : Fin (k1_t113_loop v2038 v2040 k1_t111).trips), ∀ a, (k1_off1529 v2038 v2040 k1_t111 k1_t113) a + S1x16.size a ≤ S72x256.size a := fun i v2038 v2040 k1_hw12 k1_t111 k1_t113 => k1_hw12.1.2.2.2.2.2.2.2.2.2.2.2.2.2.2.2.2.2.2.2.2.2.2.2.1 k1_t111 k1_t113
theorem k1_off1530_inb : ∀ (i : grid1.Coords) (v2038 : BitVec 32) (v2040 : BitVec 32) (k1_hw12 : k1_chk12 i v2038 v2040) (k1_t111 : Fin (k1_t111_loop v2038 v2040).trips) (k1_t113 : Fin (k1_t113_loop v2038 v2040 k1_t111).trips), ∀ a, (k1_off1530 v2038 v2040 k1_t111 k1_t113) a + S1x16.size a ≤ S72x256.size a := fun i v2038 v2040 k1_hw12 k1_t111 k1_t113 => k1_hw12.1.2.2.2.2.2.2.2.2.2.2.2.2.2.2.2.2.2.2.2.2.2.2.2.2.1 k1_t111 k1_t113
theorem k1_off1531_inb : ∀ (i : grid1.Coords) (v2038 : BitVec 32) (v2040 : BitVec 32) (k1_hw12 : k1_chk12 i v2038 v2040) (k1_t111 : Fin (k1_t111_loop v2038 v2040).trips) (k1_t113 : Fin (k1_t113_loop v2038 v2040 k1_t111).trips), ∀ a, (k1_off1531 v2038 v2040 k1_t111 k1_t113) a + S1x16.size a ≤ S72x256.size a := fun i v2038 v2040 k1_hw12 k1_t111 k1_t113 => k1_hw12.1.2.2.2.2.2.2.2.2.2.2.2.2.2.2.2.2.2.2.2.2.2.2.2.2.2.1 k1_t111 k1_t113
theorem k1_off1532_inb : ∀ (i : grid1.Coords) (v2038 : BitVec 32) (v2040 : BitVec 32) (k1_hw12 : k1_chk12 i v2038 v2040) (k1_t111 : Fin (k1_t111_loop v2038 v2040).trips) (k1_t113 : Fin (k1_t113_loop v2038 v2040 k1_t111).trips), ∀ a, (k1_off1532 v2038 v2040 k1_t111 k1_t113) a + S1x16.size a ≤ S72x256.size a := fun i v2038 v2040 k1_hw12 k1_t111 k1_t113 => k1_hw12.1.2.2.2.2.2.2.2.2.2.2.2.2.2.2.2.2.2.2.2.2.2.2.2.2.2.2.1 k1_t111 k1_t113
theorem k1_off1533_inb : ∀ (i : grid1.Coords) (v2038 : BitVec 32) (v2040 : BitVec 32) (k1_hw12 : k1_chk12 i v2038 v2040) (k1_t111 : Fin (k1_t111_loop v2038 v2040).trips) (k1_t113 : Fin (k1_t113_loop v2038 v2040 k1_t111).trips), ∀ a, (k1_off1533 v2038 v2040 k1_t111 k1_t113) a + S1x16.size a ≤ S72x256.size a := fun i v2038 v2040 k1_hw12 k1_t111 k1_t113 => k1_hw12.1.2.2.2.2.2.2.2.2.2.2.2.2.2.2.2.2.2.2.2.2.2.2.2.2.2.2.2.1 k1_t111 k1_t113
theorem k1_off1534_inb : ∀ (i : grid1.Coords) (v2038 : BitVec 32) (v2040 : BitVec 32) (k1_hw12 : k1_chk12 i v2038 v2040) (k1_t111 : Fin (k1_t111_loop v2038 v2040).trips) (k1_t113 : Fin (k1_t113_loop v2038 v2040 k1_t111).trips), ∀ a, (k1_off1534 v2038 v2040 k1_t111 k1_t113) a + S1x16.size a ≤ S72x256.size a := fun i v2038 v2040 k1_hw12 k1_t111 k1_t113 => k1_hw12.1.2.2.2.2.2.2.2.2.2.2.2.2.2.2.2.2.2.2.2.2.2.2.2.2.2.2.2.2.1 k1_t111 k1_t113
theorem k1_off1535_inb : ∀ (i : grid1.Coords) (v2038 : BitVec 32) (v2040 : BitVec 32) (k1_hw12 : k1_chk12 i v2038 v2040) (k1_t111 : Fin (k1_t111_loop v2038 v2040).trips) (k1_t113 : Fin (k1_t113_loop v2038 v2040 k1_t111).trips), ∀ a, (k1_off1535 v2038 v2040 k1_t111 k1_t113) a + S1x16.size a ≤ S72x256.size a := fun i v2038 v2040 k1_hw12 k1_t111 k1_t113 => k1_hw12.1.2.2.2.2.2.2.2.2.2.2.2.2.2.2.2.2.2.2.2.2.2.2.2.2.2.2.2.2.2.1 k1_t111 k1_t113
theorem k1_off1536_inb : ∀ (i : grid1.Coords) (v2038 : BitVec 32) (v2040 : BitVec 32) (k1_hw12 : k1_chk12 i v2038 v2040) (k1_t111 : Fin (k1_t111_loop v2038 v2040).trips) (k1_t113 : Fin (k1_t113_loop v2038 v2040 k1_t111).trips), ∀ a, (k1_off1536 v2038 v2040 k1_t111 k1_t113) a + S1x16.size a ≤ S72x256.size a := fun i v2038 v2040 k1_hw12 k1_t111 k1_t113 => k1_hw12.1.2.2.2.2.2.2.2.2.2.2.2.2.2.2.2.2.2.2.2.2.2.2.2.2.2.2.2.2.2.2.1 k1_t111 k1_t113
theorem k1_off1537_inb : ∀ (i : grid1.Coords) (v2038 : BitVec 32) (v2040 : BitVec 32) (k1_hw12 : k1_chk12 i v2038 v2040) (k1_t111 : Fin (k1_t111_loop v2038 v2040).trips) (k1_t113 : Fin (k1_t113_loop v2038 v2040 k1_t111).trips), ∀ a, (k1_off1537 v2038 v2040 k1_t111 k1_t113) a + S1x16.size a ≤ S72x256.size a := fun i v2038 v2040 k1_hw12 k1_t111 k1_t113 => k1_hw12.1.2.2.2.2.2.2.2.2.2.2.2.2.2.2.2.2.2.2.2.2.2.2.2.2.2.2.2.2.2.2.2 k1_t111 k1_t113
theorem k1_off1538_inb : ∀ (i : grid1.Coords) (v2038 : BitVec 32) (v2040 : BitVec 32) (k1_hw12 : k1_chk12 i v2038 v2040) (k1_t111 : Fin (k1_t111_loop v2038 v2040).trips) (k1_t113 : Fin (k1_t113_loop v2038 v2040 k1_t111).trips), ∀ a, (k1_off1538 v2038 v2040 k1_t111 k1_t113) a + S1x16.size a ≤ S72x256.size a := fun i v2038 v2040 k1_hw12 k1_t111 k1_t113 => k1_hw12.2.1.1 k1_t111 k1_t113
theorem k1_off1539_inb : ∀ (i : grid1.Coords) (v2038 : BitVec 32) (v2040 : BitVec 32) (k1_hw12 : k1_chk12 i v2038 v2040) (k1_t111 : Fin (k1_t111_loop v2038 v2040).trips) (k1_t113 : Fin (k1_t113_loop v2038 v2040 k1_t111).trips), ∀ a, (k1_off1539 v2038 v2040 k1_t111 k1_t113) a + S1x16.size a ≤ S72x256.size a := fun i v2038 v2040 k1_hw12 k1_t111 k1_t113 => k1_hw12.2.1.2.1 k1_t111 k1_t113
theorem k1_off1540_inb : ∀ (i : grid1.Coords) (v2038 : BitVec 32) (v2040 : BitVec 32) (k1_hw12 : k1_chk12 i v2038 v2040) (k1_t111 : Fin (k1_t111_loop v2038 v2040).trips) (k1_t113 : Fin (k1_t113_loop v2038 v2040 k1_t111).trips), ∀ a, (k1_off1540 v2038 v2040 k1_t111 k1_t113) a + S1x16.size a ≤ S72x256.size a := fun i v2038 v2040 k1_hw12 k1_t111 k1_t113 => k1_hw12.2.1.2.2.1 k1_t111 k1_t113
theorem k1_off1541_inb : ∀ (i : grid1.Coords) (v2038 : BitVec 32) (v2040 : BitVec 32) (k1_hw12 : k1_chk12 i v2038 v2040) (k1_t111 : Fin (k1_t111_loop v2038 v2040).trips) (k1_t113 : Fin (k1_t113_loop v2038 v2040 k1_t111).trips), ∀ a, (k1_off1541 v2038 v2040 k1_t111 k1_t113) a + S1x16.size a ≤ S72x256.size a := fun i v2038 v2040 k1_hw12 k1_t111 k1_t113 => k1_hw12.2.1.2.2.2.1 k1_t111 k1_t113
theorem k1_off1542_inb : ∀ (i : grid1.Coords) (v2038 : BitVec 32) (v2040 : BitVec 32) (k1_hw12 : k1_chk12 i v2038 v2040) (k1_t111 : Fin (k1_t111_loop v2038 v2040).trips) (k1_t113 : Fin (k1_t113_loop v2038 v2040 k1_t111).trips), ∀ a, (k1_off1542 v2038 v2040 k1_t111 k1_t113) a + S1x16.size a ≤ S72x256.size a := fun i v2038 v2040 k1_hw12 k1_t111 k1_t113 => k1_hw12.2.1.2.2.2.2.1 k1_t111 k1_t113
theorem k1_off1543_inb : ∀ (i : grid1.Coords) (v2038 : BitVec 32) (v2040 : BitVec 32) (k1_hw12 : k1_chk12 i v2038 v2040) (k1_t111 : Fin (k1_t111_loop v2038 v2040).trips) (k1_t113 : Fin (k1_t113_loop v2038 v2040 k1_t111).trips), ∀ a, (k1_off1543 v2038 v2040 k1_t111 k1_t113) a + S1x16.size a ≤ S72x256.size a := fun i v2038 v2040 k1_hw12 k1_t111 k1_t113 => k1_hw12.2.1.2.2.2.2.2.1 k1_t111 k1_t113
theorem k1_off1544_inb : ∀ (i : grid1.Coords) (v2038 : BitVec 32) (v2040 : BitVec 32) (k1_hw12 : k1_chk12 i v2038 v2040) (k1_t111 : Fin (k1_t111_loop v2038 v2040).trips), ∀ (k1_h103 : k1_cond103 v2038 v2040 k1_t111 = 1#1), ∀ a, (k1_off1544 i v2038 v2040 k1_t111) a + S72x256.size a ≤ S100000x512.size a := fun i v2038 v2040 k1_hw12 k1_t111 k1_h103 => k1_hw12.2.1.2.2.2.2.2.2.1 k1_t111 k1_h103
theorem k1_off1545_inb : ∀ (i : grid1.Coords) (v2038 : BitVec 32) (v2040 : BitVec 32) (k1_hw12 : k1_chk12 i v2038 v2040) (k1_t111 : Fin (k1_t111_loop v2038 v2040).trips), ∀ (k1_h103 : k1_cond103 v2038 v2040 k1_t111 = 1#1), ∀ (k1_h104 : k1_cond104 v2038 v2040 k1_t111 = 1#1), ∀ a, (k1_off1545 i v2038 v2040 k1_t111) a + S72x256.size a ≤ S100000x512.size a := fun i v2038 v2040 k1_hw12 k1_t111 k1_h103 k1_h104 => k1_hw12.2.1.2.2.2.2.2.2.2.1 k1_t111 k1_h103 k1_h104
theorem k1_t114_ok : ∀ (i : grid1.Coords) (v2038 : BitVec 32) (v2040 : BitVec 32) (k1_hw12 : k1_chk12 i v2038 v2040) (k1_t111 : Fin (k1_t111_loop v2038 v2040).trips), (k1_t114_loop v2038 v2040 k1_t111).OK := fun i v2038 v2040 k1_hw12 k1_t111 => k1_hw12.2.1.2.2.2.2.2.2.2.2.1 k1_t111
theorem k1_off1546_inb : ∀ (i : grid1.Coords) (v2038 : BitVec 32) (v2040 : BitVec 32) (k1_hw12 : k1_chk12 i v2038 v2040) (k1_t111 : Fin (k1_t111_loop v2038 v2040).trips) (k1_t114 : Fin (k1_t114_loop v2038 v2040 k1_t111).trips), ∀ a, (k1_off1546 v2038 v2040 k1_t111 k1_t114) a + S1x16.size a ≤ S72x256.size a := fun i v2038 v2040 k1_hw12 k1_t111 k1_t114 => k1_hw12.2.1.2.2.2.2.2.2.2.2.2.1 k1_t111 k1_t114
theorem k1_off1547_inb : ∀ (i : grid1.Coords) (v2038 : BitVec 32) (v2040 : BitVec 32) (k1_hw12 : k1_chk12 i v2038 v2040) (k1_t111 : Fin (k1_t111_loop v2038 v2040).trips) (k1_t114 : Fin (k1_t114_loop v2038 v2040 k1_t111).trips), ∀ a, (k1_off1547 v2038 v2040 k1_t111 k1_t114) a + S1x16.size a ≤ S72x256.size a := fun i v2038 v2040 k1_hw12 k1_t111 k1_t114 => k1_hw12.2.1.2.2.2.2.2.2.2.2.2.2.1 k1_t111 k1_t114
theorem k1_off1548_inb : ∀ (i : grid1.Coords) (v2038 : BitVec 32) (v2040 : BitVec 32) (k1_hw12 : k1_chk12 i v2038 v2040) (k1_t111 : Fin (k1_t111_loop v2038 v2040).trips) (k1_t114 : Fin (k1_t114_loop v2038 v2040 k1_t111).trips), ∀ a, (k1_off1548 v2038 v2040 k1_t111 k1_t114) a + S1x16.size a ≤ S72x256.size a := fun i v2038 v2040 k1_hw12 k1_t111 k1_t114 => k1_hw12.2.1.2.2.2.2.2.2.2.2.2.2.2.1 k1_t111 k1_t114
theorem k1_off1549_inb : ∀ (i : grid1.Coords) (v2038 : BitVec 32) (v2040 : BitVec 32) (k1_hw12 : k1_chk12 i v2038 v2040) (k1_t111 : Fin (k1_t111_loop v2038 v2040).trips) (k1_t114 : Fin (k1_t114_loop v2038 v2040 k1_t111).trips), ∀ a, (k1_off1549 v2038 v2040 k1_t111 k1_t114) a + S1x16.size a ≤ S72x256.size a := fun i v2038 v2040 k1_hw12 k1_t111 k1_t114 => k1_hw12.2.1.2.2.2.2.2.2.2.2.2.2.2.2.1 k1_t111 k1_t114
theorem k1_off1550_inb : ∀ (i : grid1.Coords) (v2038 : BitVec 32) (v2040 : BitVec 32) (k1_hw12 : k1_chk12 i v2038 v2040) (k1_t111 : Fin (k1_t111_loop v2038 v2040).trips) (k1_t114 : Fin (k1_t114_loop v2038 v2040 k1_t111).trips), ∀ a, (k1_off1550 v2038 v2040 k1_t111 k1_t114) a + S1x16.size a ≤ S72x256.size a := fun i v2038 v2040 k1_hw12 k1_t111 k1_t114 => k1_hw12.2.1.2.2.2.2.2.2.2.2.2.2.2.2.2.1 k1_t111 k1_t114
theorem k1_off1551_inb : ∀ (i : grid1.Coords) (v2038 : BitVec 32) (v2040 : BitVec 32) (k1_hw12 : k1_chk12 i v2038 v2040) (k1_t111 : Fin (k1_t111_loop v2038 v2040).trips) (k1_t114 : Fin (k1_t114_loop v2038 v2040 k1_t111).trips), ∀ a, (k1_off1551 v2038 v2040 k1_t111 k1_t114) a + S1x16.size a ≤ S72x256.size a := fun i v2038 v2040 k1_hw12 k1_t111 k1_t114 => k1_hw12.2.1.2.2.2.2.2.2.2.2.2.2.2.2.2.2.1 k1_t111 k1_t114
theorem k1_off1552_inb : ∀ (i : grid1.Coords) (v2038 : BitVec 32) (v2040 : BitVec 32) (k1_hw12 : k1_chk12 i v2038 v2040) (k1_t111 : Fin (k1_t111_loop v2038 v2040).trips) (k1_t114 : Fin (k1_t114_loop v2038 v2040 k1_t111).trips), ∀ a, (k1_off1552 v2038 v2040 k1_t111 k1_t114) a + S1x16.size a ≤ S72x256.size a := fun i v2038 v2040 k1_hw12 k1_t111 k1_t114 => k1_hw12.2.1.2.2.2.2.2.2.2.2.2.2.2.2.2.2.2.1 k1_t111 k1_t114
theorem k1_off1553_inb : ∀ (i : grid1.Coords) (v2038 : BitVec 32) (v2040 : BitVec 32) (k1_hw12 : k1_chk12 i v2038 v2040) (k1_t111 : Fin (k1_t111_loop v2038 v2040).trips) (k1_t114 : Fin (k1_t114_loop v2038 v2040 k1_t111).trips), ∀ a, (k1_off1553 v2038 v2040 k1_t111 k1_t114) a + S1x16.size a ≤ S72x256.size a := fun i v2038 v2040 k1_hw12 k1_t111 k1_t114 => k1_hw12.2.1.2.2.2.2.2.2.2.2.2.2.2.2.2.2.2.2.1 k1_t111 k1_t114
theorem k1_off1554_inb : ∀ (i : grid1.Coords) (v2038 : BitVec 32) (v2040 : BitVec 32) (k1_hw12 : k1_chk12 i v2038 v2040) (k1_t111 : Fin (k1_t111_loop v2038 v2040).trips) (k1_t114 : Fin (k1_t114_loop v2038 v2040 k1_t111).trips), ∀ a, (k1_off1554 v2038 v2040 k1_t111 k1_t114) a + S1x16.size a ≤ S72x256.size a := fun i v2038 v2040 k1_hw12 k1_t111 k1_t114 => k1_hw12.2.1.2.2.2.2.2.2.2.2.2.2.2.2.2.2.2.2.2.1 k1_t111 k1_t114
theorem k1_off1555_inb : ∀ (i : grid1.Coords) (v2038 : BitVec 32) (v2040 : BitVec 32) (k1_hw12 : k1_chk12 i v2038 v2040) (k1_t111 : Fin (k1_t111_loop v2038 v2040).trips) (k1_t114 : Fin (k1_t114_loop v2038 v2040 k1_t111).trips), ∀ a, (k1_off1555 v2038 v2040 k1_t111 k1_t114) a + S1x16.size a ≤ S72x256.size a := fun i v2038 v2040 k1_hw12 k1_t111 k1_t114 => k1_hw12.2.1.2.2.2.2.2.2.2.2.2.2.2.2.2.2.2.2.2.2.1 k1_t111 k1_t114
theorem k1_off1556_inb : ∀ (i : grid1.Coords) (v2038 : BitVec 32) (v2040 : BitVec 32) (k1_hw12 : k1_chk12 i v2038 v2040) (k1_t111 : Fin (k1_t111_loop v2038 v2040).trips) (k1_t114 : Fin (k1_t114_loop v2038 v2040 k1_t111).trips), ∀ a, (k1_off1556 v2038 v2040 k1_t111 k1_t114) a + S1x16.size a ≤ S72x256.size a := fun i v2038 v2040 k1_hw12 k1_t111 k1_t114 => k1_hw12.2.1.2.2.2.2.2.2.2.2.2.2.2.2.2.2.2.2.2.2.2.1 k1_t111 k1_t114
theorem k1_off1557_inb : ∀ (i : grid1.Coords) (v2038 : BitVec 32) (v2040 : BitVec 32) (k1_hw12 : k1_chk12 i v2038 v2040) (k1_t111 : Fin (k1_t111_loop v2038 v2040).trips) (k1_t114 : Fin (k1_t114_loop v2038 v2040 k1_t111).trips), ∀ a, (k1_off1557 v2038 v2040 k1_t111 k1_t114) a + S1x16.size a ≤ S72x256.size a := fun i v2038 v2040 k1_hw12 k1_t111 k1_t114 => k1_hw12.2.1.2.2.2.2.2.2.2.2.2.2.2.2.2.2.2.2.2.2.2.2.1 k1_t111 k1_t114
theorem k1_off1558_inb : ∀ (i : grid1.Coords) (v2038 : BitVec 32) (v2040 : BitVec 32) (k1_hw12 : k1_chk12 i v2038 v2040) (k1_t111 : Fin (k1_t111_loop v2038 v2040).trips) (k1_t114 : Fin (k1_t114_loop v2038 v2040 k1_t111).trips), ∀ a, (k1_off1558 v2038 v2040 k1_t111 k1_t114) a + S1x16.size a ≤ S72x256.size a := fun i v2038 v2040 k1_hw12 k1_t111 k1_t114 => k1_hw12.2.1.2.2.2.2.2.2.2.2.2.2.2.2.2.2.2.2.2.2.2.2.2.1 k1_t111 k1_t114
theorem k1_off1559_inb : ∀ (i : grid1.Coords) (v2038 : BitVec 32) (v2040 : BitVec 32) (k1_hw12 : k1_chk12 i v2038 v2040) (k1_t111 : Fin (k1_t111_loop v2038 v2040).trips) (k1_t114 : Fin (k1_t114_loop v2038 v2040 k1_t111).trips), ∀ a, (k1_off1559 v2038 v2040 k1_t111 k1_t114) a + S1x16.size a ≤ S72x256.size a := fun i v2038 v2040 k1_hw12 k1_t111 k1_t114 => k1_hw12.2.1.2.2.2.2.2.2.2.2.2.2.2.2.2.2.2.2.2.2.2.2.2.2.1 k1_t111 k1_t114
theorem k1_off1560_inb : ∀ (i : grid1.Coords) (v2038 : BitVec 32) (v2040 : BitVec 32) (k1_hw12 : k1_chk12 i v2038 v2040) (k1_t111 : Fin (k1_t111_loop v2038 v2040).trips) (k1_t114 : Fin (k1_t114_loop v2038 v2040 k1_t111).trips), ∀ a, (k1_off1560 v2038 v2040 k1_t111 k1_t114) a + S1x16.size a ≤ S72x256.size a := fun i v2038 v2040 k1_hw12 k1_t111 k1_t114 => k1_hw12.2.1.2.2.2.2.2.2.2.2.2.2.2.2.2.2.2.2.2.2.2.2.2.2.2.1 k1_t111 k1_t114
theorem k1_off1561_inb : ∀ (i : grid1.Coords) (v2038 : BitVec 32) (v2040 : BitVec 32) (k1_hw12 : k1_chk12 i v2038 v2040) (k1_t111 : Fin (k1_t111_loop v2038 v2040).trips) (k1_t114 : Fin (k1_t114_loop v2038 v2040 k1_t111).trips), ∀ a, (k1_off1561 v2038 v2040 k1_t111 k1_t114) a + S1x16.size a ≤ S72x256.size a := fun i v2038 v2040 k1_hw12 k1_t111 k1_t114 => k1_hw12.2.1.2.2.2.2.2.2.2.2.2.2.2.2.2.2.2.2.2.2.2.2.2.2.2.2.1 k1_t111 k1_t114
theorem k1_t115_ok : ∀ (i : grid1.Coords) (v2038 : BitVec 32) (v2040 : BitVec 32) (k1_hw12 : k1_chk12 i v2038 v2040) (k1_t111 : Fin (k1_t111_loop v2038 v2040).trips), (k1_t115_loop v2038 v2040 k1_t111).OK := fun i v2038 v2040 k1_hw12 k1_t111 => k1_hw12.2.1.2.2.2.2.2.2.2.2.2.2.2.2.2.2.2.2.2.2.2.2.2.2.2.2.2.1 k1_t111
theorem k1_off1562_inb : ∀ (i : grid1.Coords) (v2038 : BitVec 32) (v2040 : BitVec 32) (k1_hw12 : k1_chk12 i v2038 v2040) (k1_t111 : Fin (k1_t111_loop v2038 v2040).trips) (k1_t115 : Fin (k1_t115_loop v2038 v2040 k1_t111).trips), ∀ a, (k1_off1562 v2038 v2040 k1_t111 k1_t115) a + S1x16.size a ≤ S72x256.size a := fun i v2038 v2040 k1_hw12 k1_t111 k1_t115 => k1_hw12.2.1.2.2.2.2.2.2.2.2.2.2.2.2.2.2.2.2.2.2.2.2.2.2.2.2.2.2.1 k1_t111 k1_t115
theorem k1_off1563_inb : ∀ (i : grid1.Coords) (v2038 : BitVec 32) (v2040 : BitVec 32) (k1_hw12 : k1_chk12 i v2038 v2040) (k1_t111 : Fin (k1_t111_loop v2038 v2040).trips) (k1_t115 : Fin (k1_t115_loop v2038 v2040 k1_t111).trips), ∀ a, (k1_off1563 v2038 v2040 k1_t111 k1_t115) a + S1x16.size a ≤ S72x256.size a := fun i v2038 v2040 k1_hw12 k1_t111 k1_t115 => k1_hw12.2.1.2.2.2.2.2.2.2.2.2.2.2.2.2.2.2.2.2.2.2.2.2.2.2.2.2.2.2.1 k1_t111 k1_t115
theorem k1_off1564_inb : ∀ (i : grid1.Coords) (v2038 : BitVec 32) (v2040 : BitVec 32) (k1_hw12 : k1_chk12 i v2038 v2040) (k1_t111 : Fin (k1_t111_loop v2038 v2040).trips) (k1_t115 : Fin (k1_t115_loop v2038 v2040 k1_t111).trips), ∀ a, (k1_off1564 v2038 v2040 k1_t111 k1_t115) a + S1x16.size a ≤ S72x256.size a := fun i v2038 v2040 k1_hw12 k1_t111 k1_t115 => k1_hw12.2.1.2.2.2.2.2.2.2.2.2.2.2.2.2.2.2.2.2.2.2.2.2.2.2.2.2.2.2.2.1 k1_t111 k1_t115
theorem k1_off1565_inb : ∀ (i : grid1.Coords) (v2038 : BitVec 32) (v2040 : BitVec 32) (k1_hw12 : k1_chk12 i v2038 v2040) (k1_t111 : Fin (k1_t111_loop v2038 v2040).trips) (k1_t115 : Fin (k1_t115_loop v2038 v2040 k1_t111).trips), ∀ a, (k1_off1565 v2038 v2040 k1_t111 k1_t115) a + S1x16.size a ≤ S72x256.size a := fun i v2038 v2040 k1_hw12 k1_t111 k1_t115 => k1_hw12.2.1.2.2.2.2.2.2.2.2.2.2.2.2.2.2.2.2.2.2.2.2.2.2.2.2.2.2.2.2.2.1 k1_t111 k1_t115
theorem k1_off1566_inb : ∀ (i : grid1.Coords) (v2038 : BitVec 32) (v2040 : BitVec 32) (k1_hw12 : k1_chk12 i v2038 v2040) (k1_t111 : Fin (k1_t111_loop v2038 v2040).trips) (k1_t115 : Fin (k1_t115_loop v2038 v2040 k1_t111).trips), ∀ a, (k1_off1566 v2038 v2040 k1_t111 k1_t115) a + S1x16.size a ≤ S72x256.size a := fun i v2038 v2040 k1_hw12 k1_t111 k1_t115 => k1_hw12.2.1.2.2.2.2.2.2.2.2.2.2.2.2.2.2.2.2.2.2.2.2.2.2.2.2.2.2.2.2.2.2.1 k1_t111 k1_t115
theorem k1_off1567_inb : ∀ (i : grid1.Coords) (v2038 : BitVec 32) (v2040 : BitVec 32) (k1_hw12 : k1_chk12 i v2038 v2040) (k1_t111 : Fin (k1_t111_loop v2038 v2040).trips) (k1_t115 : Fin (k1_t115_loop v2038 v2040 k1_t111).trips), ∀ a, (k1_off1567 v2038 v2040 k1_t111 k1_t115) a + S1x16.size a ≤ S72x256.size a := fun i v2038 v2040 k1_hw12 k1_t111 k1_t115 => k1_hw12.2.1.2.2.2.2.2.2.2.2.2.2.2.2.2.2.2.2.2.2.2.2.2.2.2.2.2.2.2.2.2.2.2 k1_t111 k1_t115
theorem k1_off1568_inb : ∀ (i : grid1.Coords) (v2038 : BitVec 32) (v2040 : BitVec 32) (k1_hw12 : k1_chk12 i v2038 v2040) (k1_t111 : Fin (k1_t111_loop v2038 v2040).trips) (k1_t115 : Fin (k1_t115_loop v2038 v2040 k1_t111).trips), ∀ a, (k1_off1568 v2038 v2040 k1_t111 k1_t115) a + S1x16.size a ≤ S72x256.size a := fun i v2038 v2040 k1_hw12 k1_t111 k1_t115 => k1_hw12.2.2.1.1 k1_t111 k1_t115
theorem k1_off1569_inb : ∀ (i : grid1.Coords) (v2038 : BitVec 32) (v2040 : BitVec 32) (k1_hw12 : k1_chk12 i v2038 v2040) (k1_t111 : Fin (k1_t111_loop v2038 v2040).trips) (k1_t115 : Fin (k1_t115_loop v2038 v2040 k1_t111).trips), ∀ a, (k1_off1569 v2038 v2040 k1_t111 k1_t115) a + S1x16.size a ≤ S72x256.size a := fun i v2038 v2040 k1_hw12 k1_t111 k1_t115 => k1_hw12.2.2.1.2.1 k1_t111 k1_t115
theorem k1_off1570_inb : ∀ (i : grid1.Coords) (v2038 : BitVec 32) (v2040 : BitVec 32) (k1_hw12 : k1_chk12 i v2038 v2040) (k1_t111 : Fin (k1_t111_loop v2038 v2040).trips) (k1_t115 : Fin (k1_t115_loop v2038 v2040 k1_t111).trips), ∀ a, (k1_off1570 v2038 v2040 k1_t111 k1_t115) a + S1x16.size a ≤ S72x256.size a := fun i v2038 v2040 k1_hw12 k1_t111 k1_t115 => k1_hw12.2.2.1.2.2.1 k1_t111 k1_t115
theorem k1_off1571_inb : ∀ (i : grid1.Coords) (v2038 : BitVec 32) (v2040 : BitVec 32) (k1_hw12 : k1_chk12 i v2038 v2040) (k1_t111 : Fin (k1_t111_loop v2038 v2040).trips) (k1_t115 : Fin (k1_t115_loop v2038 v2040 k1_t111).trips), ∀ a, (k1_off1571 v2038 v2040 k1_t111 k1_t115) a + S1x16.size a ≤ S72x256.size a := fun i v2038 v2040 k1_hw12 k1_t111 k1_t115 => k1_hw12.2.2.1.2.2.2.1 k1_t111 k1_t115
theorem k1_off1572_inb : ∀ (i : grid1.Coords) (v2038 : BitVec 32) (v2040 : BitVec 32) (k1_hw12 : k1_chk12 i v2038 v2040) (k1_t111 : Fin (k1_t111_loop v2038 v2040).trips) (k1_t115 : Fin (k1_t115_loop v2038 v2040 k1_t111).trips), ∀ a, (k1_off1572 v2038 v2040 k1_t111 k1_t115) a + S1x16.size a ≤ S72x256.size a := fun i v2038 v2040 k1_hw12 k1_t111 k1_t115 => k1_hw12.2.2.1.2.2.2.2.1 k1_t111 k1_t115
theorem k1_off1573_inb : ∀ (i : grid1.Coords) (v2038 : BitVec 32) (v2040 : BitVec 32) (k1_hw12 : k1_chk12 i v2038 v2040) (k1_t111 : Fin (k1_t111_loop v2038 v2040).trips) (k1_t115 : Fin (k1_t115_loop v2038 v2040 k1_t111).trips), ∀ a, (k1_off1573 v2038 v2040 k1_t111 k1_t115) a + S1x16.size a ≤ S72x256.size a := fun i v2038 v2040 k1_hw12 k1_t111 k1_t115 => k1_hw12.2.2.1.2.2.2.2.2.1 k1_t111 k1_t115
theorem k1_off1574_inb : ∀ (i : grid1.Coords) (v2038 : BitVec 32) (v2040 : BitVec 32) (k1_hw12 : k1_chk12 i v2038 v2040) (k1_t111 : Fin (k1_t111_loop v2038 v2040).trips) (k1_t115 : Fin (k1_t115_loop v2038 v2040 k1_t111).trips), ∀ a, (k1_off1574 v2038 v2040 k1_t111 k1_t115) a + S1x16.size a ≤ S72x256.size a := fun i v2038 v2040 k1_hw12 k1_t111 k1_t115 => k1_hw12.2.2.1.2.2.2.2.2.2.1 k1_t111 k1_t115
theorem k1_off1575_inb : ∀ (i : grid1.Coords) (v2038 : BitVec 32) (v2040 : BitVec 32) (k1_hw12 : k1_chk12 i v2038 v2040) (k1_t111 : Fin (k1_t111_loop v2038 v2040).trips) (k1_t115 : Fin (k1_t115_loop v2038 v2040 k1_t111).trips), ∀ a, (k1_off1575 v2038 v2040 k1_t111 k1_t115) a + S1x16.size a ≤ S72x256.size a := fun i v2038 v2040 k1_hw12 k1_t111 k1_t115 => k1_hw12.2.2.1.2.2.2.2.2.2.2.1 k1_t111 k1_t115
theorem k1_off1576_inb : ∀ (i : grid1.Coords) (v2038 : BitVec 32) (v2040 : BitVec 32) (k1_hw12 : k1_chk12 i v2038 v2040) (k1_t111 : Fin (k1_t111_loop v2038 v2040).trips) (k1_t115 : Fin (k1_t115_loop v2038 v2040 k1_t111).trips), ∀ a, (k1_off1576 v2038 v2040 k1_t111 k1_t115) a + S1x16.size a ≤ S72x256.size a := fun i v2038 v2040 k1_hw12 k1_t111 k1_t115 => k1_hw12.2.2.1.2.2.2.2.2.2.2.2.1 k1_t111 k1_t115
theorem k1_off1577_inb : ∀ (i : grid1.Coords) (v2038 : BitVec 32) (v2040 : BitVec 32) (k1_hw12 : k1_chk12 i v2038 v2040) (k1_t111 : Fin (k1_t111_loop v2038 v2040).trips) (k1_t115 : Fin (k1_t115_loop v2038 v2040 k1_t111).trips), ∀ a, (k1_off1577 v2038 v2040 k1_t111 k1_t115) a + S1x16.size a ≤ S72x256.size a := fun i v2038 v2040 k1_hw12 k1_t111 k1_t115 => k1_hw12.2.2.1.2.2.2.2.2.2.2.2.2.1 k1_t111 k1_t115
theorem k1_t116_ok : ∀ (i : grid1.Coords) (v2038 : BitVec 32) (v2040 : BitVec 32) (k1_hw12 : k1_chk12 i v2038 v2040), (k1_t116_loop v2038 v2040).OK := fun i v2038 v2040 k1_hw12 => k1_hw12.2.2.1.2.2.2.2.2.2.2.2.2.2.1
theorem k1_off1578_inb : ∀ (i : grid1.Coords) (v2038 : BitVec 32) (v2040 : BitVec 32) (k1_hw12 : k1_chk12 i v2038 v2040) (k1_t116 : Fin (k1_t116_loop v2038 v2040).trips), ∀ (k1_h105 : k1_cond105 v2038 v2040 k1_t116 = 1#1), ∀ a, (k1_off1578 i v2038 v2040 k1_t116) a + S72x256.size a ≤ S100000x512.size a := fun i v2038 v2040 k1_hw12 k1_t116 k1_h105 => k1_hw12.2.2.1.2.2.2.2.2.2.2.2.2.2.2.1 k1_t116 k1_h105
theorem k1_off1579_inb : ∀ (i : grid1.Coords) (v2038 : BitVec 32) (v2040 : BitVec 32) (k1_hw12 : k1_chk12 i v2038 v2040) (k1_t116 : Fin (k1_t116_loop v2038 v2040).trips), ∀ (k1_h105 : k1_cond105 v2038 v2040 k1_t116 = 1#1), ∀ (k1_h106 : k1_cond106 v2038 v2040 k1_t116 = 1#1), ∀ a, (k1_off1579 i v2038 v2040 k1_t116) a + S72x256.size a ≤ S100000x512.size a := fun i v2038 v2040 k1_hw12 k1_t116 k1_h105 k1_h106 => k1_hw12.2.2.1.2.2.2.2.2.2.2.2.2.2.2.2.1 k1_t116 k1_h105 k1_h106
theorem k1_t117_ok : ∀ (i : grid1.Coords) (v2038 : BitVec 32) (v2040 : BitVec 32) (k1_hw12 : k1_chk12 i v2038 v2040) (k1_t116 : Fin (k1_t116_loop v2038 v2040).trips), (k1_t117_loop v2038 v2040 k1_t116).OK := fun i v2038 v2040 k1_hw12 k1_t116 => k1_hw12.2.2.1.2.2.2.2.2.2.2.2.2.2.2.2.2.1 k1_t116
theorem k1_off1580_inb : ∀ (i : grid1.Coords) (v2038 : BitVec 32) (v2040 : BitVec 32) (k1_hw12 : k1_chk12 i v2038 v2040) (k1_t116 : Fin (k1_t116_loop v2038 v2040).trips) (k1_t117 : Fin (k1_t117_loop v2038 v2040 k1_t116).trips), ∀ a, (k1_off1580 v2038 v2040 k1_t116 k1_t117) a + S1x16.size a ≤ S72x256.size a := fun i v2038 v2040 k1_hw12 k1_t116 k1_t117 => k1_hw12.2.2.1.2.2.2.2.2.2.2.2.2.2.2.2.2.2.1 k1_t116 k1_t117
theorem k1_off1581_inb : ∀ (i : grid1.Coords) (v2038 : BitVec 32) (v2040 : BitVec 32) (k1_hw12 : k1_chk12 i v2038 v2040) (k1_t116 : Fin (k1_t116_loop v2038 v2040).trips) (k1_t117 : Fin (k1_t117_loop v2038 v2040 k1_t116).trips), ∀ a, (k1_off1581 v2038 v2040 k1_t116 k1_t117) a + S1x16.size a ≤ S72x256.size a := fun i v2038 v2040 k1_hw12 k1_t116 k1_t117 => k1_hw12.2.2.1.2.2.2.2.2.2.2.2.2.2.2.2.2.2.2.1 k1_t116 k1_t117
theorem k1_off1582_inb : ∀ (i : grid1.Coords) (v2038 : BitVec 32) (v2040 : BitVec 32) (k1_hw12 : k1_chk12 i v2038 v2040) (k1_t116 : Fin (k1_t116_loop v2038 v2040).trips) (k1_t117 : Fin (k1_t117_loop v2038 v2040 k1_t116).trips), ∀ a, (k1_off1582 v2038 v2040 k1_t116 k1_t117) a + S1x16.size a ≤ S72x256.size a := fun i v2038 v2040 k1_hw12 k1_t116 k1_t117 => k1_hw12.2.2.1.2.2.2.2.2.2.2.2.2.2.2.2.2.2.2.2.1 k1_t116 k1_t117
theorem k1_off1583_inb : ∀ (i : grid1.Coords) (v2038 : BitVec 32) (v2040 : BitVec 32) (k1_hw12 : k1_chk12 i v2038 v2040) (k1_t116 : Fin (k1_t116_loop v2038 v2040).trips) (k1_t117 : Fin (k1_t117_loop v2038 v2040 k1_t116).trips), ∀ a, (k1_off1583 v2038 v2040 k1_t116 k1_t117) a + S1x16.size a ≤ S72x256.size a := fun i v2038 v2040 k1_hw12 k1_t116 k1_t117 => k1_hw12.2.2.1.2.2.2.2.2.2.2.2.2.2.2.2.2.2.2.2.2.1 k1_t116 k1_t117
theorem k1_off1584_inb : ∀ (i : grid1.Coords) (v2038 : BitVec 32) (v2040 : BitVec 32) (k1_hw12 : k1_chk12 i v2038 v2040) (k1_t116 : Fin (k1_t116_loop v2038 v2040).trips) (k1_t117 : Fin (k1_t117_loop v2038 v2040 k1_t116).trips), ∀ a, (k1_off1584 v2038 v2040 k1_t116 k1_t117) a + S1x16.size a ≤ S72x256.size a := fun i v2038 v2040 k1_hw12 k1_t116 k1_t117 => k1_hw12.2.2.1.2.2.2.2.2.2.2.2.2.2.2.2.2.2.2.2.2.2.1 k1_t116 k1_t117
theorem k1_off1585_inb : ∀ (i : grid1.Coords) (v2038 : BitVec 32) (v2040 : BitVec 32) (k1_hw12 : k1_chk12 i v2038 v2040) (k1_t116 : Fin (k1_t116_loop v2038 v2040).trips) (k1_t117 : Fin (k1_t117_loop v2038 v2040 k1_t116).trips), ∀ a, (k1_off1585 v2038 v2040 k1_t116 k1_t117) a + S1x16.size a ≤ S72x256.size a := fun i v2038 v2040 k1_hw12 k1_t116 k1_t117 => k1_hw12.2.2.1.2.2.2.2.2.2.2.2.2.2.2.2.2.2.2.2.2.2.2.1 k1_t116 k1_t117
theorem k1_off1586_inb : ∀ (i : grid1.Coords) (v2038 : BitVec 32) (v2040 : BitVec 32) (k1_hw12 : k1_chk12 i v2038 v2040) (k1_t116 : Fin (k1_t116_loop v2038 v2040).trips) (k1_t117 : Fin (k1_t117_loop v2038 v2040 k1_t116).trips), ∀ a, (k1_off1586 v2038 v2040 k1_t116 k1_t117) a + S1x16.size a ≤ S72x256.size a := fun i v2038 v2040 k1_hw12 k1_t116 k1_t117 => k1_hw12.2.2.1.2.2.2.2.2.2.2.2.2.2.2.2.2.2.2.2.2.2.2.2.1 k1_t116 k1_t117
theorem k1_off1587_inb : ∀ (i : grid1.Coords) (v2038 : BitVec 32) (v2040 : BitVec 32) (k1_hw12 : k1_chk12 i v2038 v2040) (k1_t116 : Fin (k1_t116_loop v2038 v2040).trips) (k1_t117 : Fin (k1_t117_loop v2038 v2040 k1_t116).trips), ∀ a, (k1_off1587 v2038 v2040 k1_t116 k1_t117) a + S1x16.size a ≤ S72x256.size a := fun i v2038 v2040 k1_hw12 k1_t116 k1_t117 => k1_hw12.2.2.1.2.2.2.2.2.2.2.2.2.2.2.2.2.2.2.2.2.2.2.2.2.1 k1_t116 k1_t117
theorem k1_off1588_inb : ∀ (i : grid1.Coords) (v2038 : BitVec 32) (v2040 : BitVec 32) (k1_hw12 : k1_chk12 i v2038 v2040) (k1_t116 : Fin (k1_t116_loop v2038 v2040).trips) (k1_t117 : Fin (k1_t117_loop v2038 v2040 k1_t116).trips), ∀ a, (k1_off1588 v2038 v2040 k1_t116 k1_t117) a + S1x16.size a ≤ S72x256.size a := fun i v2038 v2040 k1_hw12 k1_t116 k1_t117 => k1_hw12.2.2.1.2.2.2.2.2.2.2.2.2.2.2.2.2.2.2.2.2.2.2.2.2.2.1 k1_t116 k1_t117
theorem k1_off1589_inb : ∀ (i : grid1.Coords) (v2038 : BitVec 32) (v2040 : BitVec 32) (k1_hw12 : k1_chk12 i v2038 v2040) (k1_t116 : Fin (k1_t116_loop v2038 v2040).trips) (k1_t117 : Fin (k1_t117_loop v2038 v2040 k1_t116).trips), ∀ a, (k1_off1589 v2038 v2040 k1_t116 k1_t117) a + S1x16.size a ≤ S72x256.size a := fun i v2038 v2040 k1_hw12 k1_t116 k1_t117 => k1_hw12.2.2.1.2.2.2.2.2.2.2.2.2.2.2.2.2.2.2.2.2.2.2.2.2.2.2.1 k1_t116 k1_t117
theorem k1_off1590_inb : ∀ (i : grid1.Coords) (v2038 : BitVec 32) (v2040 : BitVec 32) (k1_hw12 : k1_chk12 i v2038 v2040) (k1_t116 : Fin (k1_t116_loop v2038 v2040).trips) (k1_t117 : Fin (k1_t117_loop v2038 v2040 k1_t116).trips), ∀ a, (k1_off1590 v2038 v2040 k1_t116 k1_t117) a + S1x16.size a ≤ S72x256.size a := fun i v2038 v2040 k1_hw12 k1_t116 k1_t117 => k1_hw12.2.2.1.2.2.2.2.2.2.2.2.2.2.2.2.2.2.2.2.2.2.2.2.2.2.2.2.1 k1_t116 k1_t117
theorem k1_off1591_inb : ∀ (i : grid1.Coords) (v2038 : BitVec 32) (v2040 : BitVec 32) (k1_hw12 : k1_chk12 i v2038 v2040) (k1_t116 : Fin (k1_t116_loop v2038 v2040).trips) (k1_t117 : Fin (k1_t117_loop v2038 v2040 k1_t116).trips), ∀ a, (k1_off1591 v2038 v2040 k1_t116 k1_t117) a + S1x16.size a ≤ S72x256.size a := fun i v2038 v2040 k1_hw12 k1_t116 k1_t117 => k1_hw12.2.2.1.2.2.2.2.2.2.2.2.2.2.2.2.2.2.2.2.2.2.2.2.2.2.2.2.2.1 k1_t116 k1_t117
theorem k1_off1592_inb : ∀ (i : grid1.Coords) (v2038 : BitVec 32) (v2040 : BitVec 32) (k1_hw12 : k1_chk12 i v2038 v2040) (k1_t116 : Fin (k1_t116_loop v2038 v2040).trips) (k1_t117 : Fin (k1_t117_loop v2038 v2040 k1_t116).trips), ∀ a, (k1_off1592 v2038 v2040 k1_t116 k1_t117) a + S1x16.size a ≤ S72x256.size a := fun i v2038 v2040 k1_hw12 k1_t116 k1_t117 => k1_hw12.2.2.1.2.2.2.2.2.2.2.2.2.2.2.2.2.2.2.2.2.2.2.2.2.2.2.2.2.2.1 k1_t116 k1_t117
theorem k1_off1593_inb : ∀ (i : grid1.Coords) (v2038 : BitVec 32) (v2040 : BitVec 32) (k1_hw12 : k1_chk12 i v2038 v2040) (k1_t116 : Fin (k1_t116_loop v2038 v2040).trips) (k1_t117 : Fin (k1_t117_loop v2038 v2040 k1_t116).trips), ∀ a, (k1_off1593 v2038 v2040 k1_t116 k1_t117) a + S1x16.size a ≤ S72x256.size a := fun i v2038 v2040 k1_hw12 k1_t116 k1_t117 => k1_hw12.2.2.1.2.2.2.2.2.2.2.2.2.2.2.2.2.2.2.2.2.2.2.2.2.2.2.2.2.2.2.1 k1_t116 k1_t117
theorem k1_off1594_inb : ∀ (i : grid1.Coords) (v2038 : BitVec 32) (v2040 : BitVec 32) (k1_hw12 : k1_chk12 i v2038 v2040) (k1_t116 : Fin (k1_t116_loop v2038 v2040).trips) (k1_t117 : Fin (k1_t117_loop v2038 v2040 k1_t116).trips), ∀ a, (k1_off1594 v2038 v2040 k1_t116 k1_t117) a + S1x16.size a ≤ S72x256.size a := fun i v2038 v2040 k1_hw12 k1_t116 k1_t117 => k1_hw12.2.2.1.2.2.2.2.2.2.2.2.2.2.2.2.2.2.2.2.2.2.2.2.2.2.2.2.2.2.2.2.1 k1_t116 k1_t117
theorem k1_off1595_inb : ∀ (i : grid1.Coords) (v2038 : BitVec 32) (v2040 : BitVec 32) (k1_hw12 : k1_chk12 i v2038 v2040) (k1_t116 : Fin (k1_t116_loop v2038 v2040).trips) (k1_t117 : Fin (k1_t117_loop v2038 v2040 k1_t116).trips), ∀ a, (k1_off1595 v2038 v2040 k1_t116 k1_t117) a + S1x16.size a ≤ S72x256.size a := fun i v2038 v2040 k1_hw12 k1_t116 k1_t117 => k1_hw12.2.2.1.2.2.2.2.2.2.2.2.2.2.2.2.2.2.2.2.2.2.2.2.2.2.2.2.2.2.2.2.2.1 k1_t116 k1_t117
theorem k1_t118_ok : ∀ (i : grid1.Coords) (v2038 : BitVec 32) (v2040 : BitVec 32) (k1_hw12 : k1_chk12 i v2038 v2040) (k1_t116 : Fin (k1_t116_loop v2038 v2040).trips), (k1_t118_loop v2038 v2040 k1_t116).OK := fun i v2038 v2040 k1_hw12 k1_t116 => k1_hw12.2.2.1.2.2.2.2.2.2.2.2.2.2.2.2.2.2.2.2.2.2.2.2.2.2.2.2.2.2.2.2.2.2.1 k1_t116
theorem k1_off1596_inb : ∀ (i : grid1.Coords) (v2038 : BitVec 32) (v2040 : BitVec 32) (k1_hw12 : k1_chk12 i v2038 v2040) (k1_t116 : Fin (k1_t116_loop v2038 v2040).trips) (k1_t118 : Fin (k1_t118_loop v2038 v2040 k1_t116).trips), ∀ a, (k1_off1596 v2038 v2040 k1_t116 k1_t118) a + S1x16.size a ≤ S72x256.size a := fun i v2038 v2040 k1_hw12 k1_t116 k1_t118 => k1_hw12.2.2.1.2.2.2.2.2.2.2.2.2.2.2.2.2.2.2.2.2.2.2.2.2.2.2.2.2.2.2.2.2.2.2 k1_t116 k1_t118
theorem k1_off1597_inb : ∀ (i : grid1.Coords) (v2038 : BitVec 32) (v2040 : BitVec 32) (k1_hw12 : k1_chk12 i v2038 v2040) (k1_t116 : Fin (k1_t116_loop v2038 v2040).trips) (k1_t118 : Fin (k1_t118_loop v2038 v2040 k1_t116).trips), ∀ a, (k1_off1597 v2038 v2040 k1_t116 k1_t118) a + S1x16.size a ≤ S72x256.size a := fun i v2038 v2040 k1_hw12 k1_t116 k1_t118 => k1_hw12.2.2.2.1.1 k1_t116 k1_t118
theorem k1_off1598_inb : ∀ (i : grid1.Coords) (v2038 : BitVec 32) (v2040 : BitVec 32) (k1_hw12 : k1_chk12 i v2038 v2040) (k1_t116 : Fin (k1_t116_loop v2038 v2040).trips) (k1_t118 : Fin (k1_t118_loop v2038 v2040 k1_t116).trips), ∀ a, (k1_off1598 v2038 v2040 k1_t116 k1_t118) a + S1x16.size a ≤ S72x256.size a := fun i v2038 v2040 k1_hw12 k1_t116 k1_t118 => k1_hw12.2.2.2.1.2.1 k1_t116 k1_t118
theorem k1_off1599_inb : ∀ (i : grid1.Coords) (v2038 : BitVec 32) (v2040 : BitVec 32) (k1_hw12 : k1_chk12 i v2038 v2040) (k1_t116 : Fin (k1_t116_loop v2038 v2040).trips) (k1_t118 : Fin (k1_t118_loop v2038 v2040 k1_t116).trips), ∀ a, (k1_off1599 v2038 v2040 k1_t116 k1_t118) a + S1x16.size a ≤ S72x256.size a := fun i v2038 v2040 k1_hw12 k1_t116 k1_t118 => k1_hw12.2.2.2.1.2.2.1 k1_t116 k1_t118
theorem k1_off1600_inb : ∀ (i : grid1.Coords) (v2038 : BitVec 32) (v2040 : BitVec 32) (k1_hw12 : k1_chk12 i v2038 v2040) (k1_t116 : Fin (k1_t116_loop v2038 v2040).trips) (k1_t118 : Fin (k1_t118_loop v2038 v2040 k1_t116).trips), ∀ a, (k1_off1600 v2038 v2040 k1_t116 k1_t118) a + S1x16.size a ≤ S72x256.size a := fun i v2038 v2040 k1_hw12 k1_t116 k1_t118 => k1_hw12.2.2.2.1.2.2.2.1 k1_t116 k1_t118
theorem k1_off1601_inb : ∀ (i : grid1.Coords) (v2038 : BitVec 32) (v2040 : BitVec 32) (k1_hw12 : k1_chk12 i v2038 v2040) (k1_t116 : Fin (k1_t116_loop v2038 v2040).trips) (k1_t118 : Fin (k1_t118_loop v2038 v2040 k1_t116).trips), ∀ a, (k1_off1601 v2038 v2040 k1_t116 k1_t118) a + S1x16.size a ≤ S72x256.size a := fun i v2038 v2040 k1_hw12 k1_t116 k1_t118 => k1_hw12.2.2.2.1.2.2.2.2.1 k1_t116 k1_t118
theorem k1_off1602_inb : ∀ (i : grid1.Coords) (v2038 : BitVec 32) (v2040 : BitVec 32) (k1_hw12 : k1_chk12 i v2038 v2040) (k1_t116 : Fin (k1_t116_loop v2038 v2040).trips) (k1_t118 : Fin (k1_t118_loop v2038 v2040 k1_t116).trips), ∀ a, (k1_off1602 v2038 v2040 k1_t116 k1_t118) a + S1x16.size a ≤ S72x256.size a := fun i v2038 v2040 k1_hw12 k1_t116 k1_t118 => k1_hw12.2.2.2.1.2.2.2.2.2.1 k1_t116 k1_t118
theorem k1_off1603_inb : ∀ (i : grid1.Coords) (v2038 : BitVec 32) (v2040 : BitVec 32) (k1_hw12 : k1_chk12 i v2038 v2040) (k1_t116 : Fin (k1_t116_loop v2038 v2040).trips) (k1_t118 : Fin (k1_t118_loop v2038 v2040 k1_t116).trips), ∀ a, (k1_off1603 v2038 v2040 k1_t116 k1_t118) a + S1x16.size a ≤ S72x256.size a := fun i v2038 v2040 k1_hw12 k1_t116 k1_t118 => k1_hw12.2.2.2.1.2.2.2.2.2.2.1 k1_t116 k1_t118
theorem k1_off1604_inb : ∀ (i : grid1.Coords) (v2038 : BitVec 32) (v2040 : BitVec 32) (k1_hw12 : k1_chk12 i v2038 v2040) (k1_t116 : Fin (k1_t116_loop v2038 v2040).trips) (k1_t118 : Fin (k1_t118_loop v2038 v2040 k1_t116).trips), ∀ a, (k1_off1604 v2038 v2040 k1_t116 k1_t118) a + S1x16.size a ≤ S72x256.size a := fun i v2038 v2040 k1_hw12 k1_t116 k1_t118 => k1_hw12.2.2.2.1.2.2.2.2.2.2.2.1 k1_t116 k1_t118
theorem k1_off1605_inb : ∀ (i : grid1.Coords) (v2038 : BitVec 32) (v2040 : BitVec 32) (k1_hw12 : k1_chk12 i v2038 v2040) (k1_t116 : Fin (k1_t116_loop v2038 v2040).trips) (k1_t118 : Fin (k1_t118_loop v2038 v2040 k1_t116).trips), ∀ a, (k1_off1605 v2038 v2040 k1_t116 k1_t118) a + S1x16.size a ≤ S72x256.size a := fun i v2038 v2040 k1_hw12 k1_t116 k1_t118 => k1_hw12.2.2.2.1.2.2.2.2.2.2.2.2.1 k1_t116 k1_t118
theorem k1_off1606_inb : ∀ (i : grid1.Coords) (v2038 : BitVec 32) (v2040 : BitVec 32) (k1_hw12 : k1_chk12 i v2038 v2040) (k1_t116 : Fin (k1_t116_loop v2038 v2040).trips) (k1_t118 : Fin (k1_t118_loop v2038 v2040 k1_t116).trips), ∀ a, (k1_off1606 v2038 v2040 k1_t116 k1_t118) a + S1x16.size a ≤ S72x256.size a := fun i v2038 v2040 k1_hw12 k1_t116 k1_t118 => k1_hw12.2.2.2.1.2.2.2.2.2.2.2.2.2.1 k1_t116 k1_t118
theorem k1_off1607_inb : ∀ (i : grid1.Coords) (v2038 : BitVec 32) (v2040 : BitVec 32) (k1_hw12 : k1_chk12 i v2038 v2040) (k1_t116 : Fin (k1_t116_loop v2038 v2040).trips) (k1_t118 : Fin (k1_t118_loop v2038 v2040 k1_t116).trips), ∀ a, (k1_off1607 v2038 v2040 k1_t116 k1_t118) a + S1x16.size a ≤ S72x256.size a := fun i v2038 v2040 k1_hw12 k1_t116 k1_t118 => k1_hw12.2.2.2.1.2.2.2.2.2.2.2.2.2.2.1 k1_t116 k1_t118
theorem k1_off1608_inb : ∀ (i : grid1.Coords) (v2038 : BitVec 32) (v2040 : BitVec 32) (k1_hw12 : k1_chk12 i v2038 v2040) (k1_t116 : Fin (k1_t116_loop v2038 v2040).trips) (k1_t118 : Fin (k1_t118_loop v2038 v2040 k1_t116).trips), ∀ a, (k1_off1608 v2038 v2040 k1_t116 k1_t118) a + S1x16.size a ≤ S72x256.size a := fun i v2038 v2040 k1_hw12 k1_t116 k1_t118 => k1_hw12.2.2.2.1.2.2.2.2.2.2.2.2.2.2.2.1 k1_t116 k1_t118
theorem k1_off1609_inb : ∀ (i : grid1.Coords) (v2038 : BitVec 32) (v2040 : BitVec 32) (k1_hw12 : k1_chk12 i v2038 v2040) (k1_t116 : Fin (k1_t116_loop v2038 v2040).trips) (k1_t118 : Fin (k1_t118_loop v2038 v2040 k1_t116).trips), ∀ a, (k1_off1609 v2038 v2040 k1_t116 k1_t118) a + S1x16.size a ≤ S72x256.size a := fun i v2038 v2040 k1_hw12 k1_t116 k1_t118 => k1_hw12.2.2.2.1.2.2.2.2.2.2.2.2.2.2.2.2.1 k1_t116 k1_t118
theorem k1_off1610_inb : ∀ (i : grid1.Coords) (v2038 : BitVec 32) (v2040 : BitVec 32) (k1_hw12 : k1_chk12 i v2038 v2040) (k1_t116 : Fin (k1_t116_loop v2038 v2040).trips) (k1_t118 : Fin (k1_t118_loop v2038 v2040 k1_t116).trips), ∀ a, (k1_off1610 v2038 v2040 k1_t116 k1_t118) a + S1x16.size a ≤ S72x256.size a := fun i v2038 v2040 k1_hw12 k1_t116 k1_t118 => k1_hw12.2.2.2.1.2.2.2.2.2.2.2.2.2.2.2.2.2.1 k1_t116 k1_t118
theorem k1_off1611_inb : ∀ (i : grid1.Coords) (v2038 : BitVec 32) (v2040 : BitVec 32) (k1_hw12 : k1_chk12 i v2038 v2040) (k1_t116 : Fin (k1_t116_loop v2038 v2040).trips) (k1_t118 : Fin (k1_t118_loop v2038 v2040 k1_t116).trips), ∀ a, (k1_off1611 v2038 v2040 k1_t116 k1_t118) a + S1x16.size a ≤ S72x256.size a := fun i v2038 v2040 k1_hw12 k1_t116 k1_t118 => k1_hw12.2.2.2.1.2.2.2.2.2.2.2.2.2.2.2.2.2.2.1 k1_t116 k1_t118
theorem k1_off1612_inb : ∀ (i : grid1.Coords) (v2038 : BitVec 32) (v2040 : BitVec 32) (k1_hw12 : k1_chk12 i v2038 v2040) (k1_t116 : Fin (k1_t116_loop v2038 v2040).trips), ∀ (k1_h107 : k1_cond107 v2038 v2040 k1_t116 = 1#1), ∀ a, (k1_off1612 i v2038 v2040 k1_t116) a + S72x256.size a ≤ S100000x512.size a := fun i v2038 v2040 k1_hw12 k1_t116 k1_h107 => k1_hw12.2.2.2.1.2.2.2.2.2.2.2.2.2.2.2.2.2.2.2.1 k1_t116 k1_h107
theorem k1_off1613_inb : ∀ (i : grid1.Coords) (v2038 : BitVec 32) (v2040 : BitVec 32) (k1_hw12 : k1_chk12 i v2038 v2040) (k1_t116 : Fin (k1_t116_loop v2038 v2040).trips), ∀ (k1_h107 : k1_cond107 v2038 v2040 k1_t116 = 1#1), ∀ (k1_h108 : k1_cond108 v2038 v2040 k1_t116 = 1#1), ∀ a, (k1_off1613 i v2038 v2040 k1_t116) a + S72x256.size a ≤ S100000x512.size a := fun i v2038 v2040 k1_hw12 k1_t116 k1_h107 k1_h108 => k1_hw12.2.2.2.1.2.2.2.2.2.2.2.2.2.2.2.2.2.2.2.2.1 k1_t116 k1_h107 k1_h108
theorem k1_t119_ok : ∀ (i : grid1.Coords) (v2038 : BitVec 32) (v2040 : BitVec 32) (k1_hw12 : k1_chk12 i v2038 v2040) (k1_t116 : Fin (k1_t116_loop v2038 v2040).trips), (k1_t119_loop v2038 v2040 k1_t116).OK := fun i v2038 v2040 k1_hw12 k1_t116 => k1_hw12.2.2.2.1.2.2.2.2.2.2.2.2.2.2.2.2.2.2.2.2.2.1 k1_t116
theorem k1_off1614_inb : ∀ (i : grid1.Coords) (v2038 : BitVec 32) (v2040 : BitVec 32) (k1_hw12 : k1_chk12 i v2038 v2040) (k1_t116 : Fin (k1_t116_loop v2038 v2040).trips) (k1_t119 : Fin (k1_t119_loop v2038 v2040 k1_t116).trips), ∀ a, (k1_off1614 v2038 v2040 k1_t116 k1_t119) a + S1x16.size a ≤ S72x256.size a := fun i v2038 v2040 k1_hw12 k1_t116 k1_t119 => k1_hw12.2.2.2.1.2.2.2.2.2.2.2.2.2.2.2.2.2.2.2.2.2.2.1 k1_t116 k1_t119
theorem k1_off1615_inb : ∀ (i : grid1.Coords) (v2038 : BitVec 32) (v2040 : BitVec 32) (k1_hw12 : k1_chk12 i v2038 v2040) (k1_t116 : Fin (k1_t116_loop v2038 v2040).trips) (k1_t119 : Fin (k1_t119_loop v2038 v2040 k1_t116).trips), ∀ a, (k1_off1615 v2038 v2040 k1_t116 k1_t119) a + S1x16.size a ≤ S72x256.size a := fun i v2038 v2040 k1_hw12 k1_t116 k1_t119 => k1_hw12.2.2.2.1.2.2.2.2.2.2.2.2.2.2.2.2.2.2.2.2.2.2.2.1 k1_t116 k1_t119
theorem k1_off1616_inb : ∀ (i : grid1.Coords) (v2038 : BitVec 32) (v2040 : BitVec 32) (k1_hw12 : k1_chk12 i v2038 v2040) (k1_t116 : Fin (k1_t116_loop v2038 v2040).trips) (k1_t119 : Fin (k1_t119_loop v2038 v2040 k1_t116).trips), ∀ a, (k1_off1616 v2038 v2040 k1_t116 k1_t119) a + S1x16.size a ≤ S72x256.size a := fun i v2038 v2040 k1_hw12 k1_t116 k1_t119 => k1_hw12.2.2.2.1.2.2.2.2.2.2.2.2.2.2.2.2.2.2.2.2.2.2.2.2.1 k1_t116 k1_t119
theorem k1_off1617_inb : ∀ (i : grid1.Coords) (v2038 : BitVec 32) (v2040 : BitVec 32) (k1_hw12 : k1_chk12 i v2038 v2040) (k1_t116 : Fin (k1_t116_loop v2038 v2040).trips) (k1_t119 : Fin (k1_t119_loop v2038 v2040 k1_t116).trips), ∀ a, (k1_off1617 v2038 v2040 k1_t116 k1_t119) a + S1x16.size a ≤ S72x256.size a := fun i v2038 v2040 k1_hw12 k1_t116 k1_t119 => k1_hw12.2.2.2.1.2.2.2.2.2.2.2.2.2.2.2.2.2.2.2.2.2.2.2.2.2.1 k1_t116 k1_t119
theorem k1_off1618_inb : ∀ (i : grid1.Coords) (v2038 : BitVec 32) (v2040 : BitVec 32) (k1_hw12 : k1_chk12 i v2038 v2040) (k1_t116 : Fin (k1_t116_loop v2038 v2040).trips) (k1_t119 : Fin (k1_t119_loop v2038 v2040 k1_t116).trips), ∀ a, (k1_off1618 v2038 v2040 k1_t116 k1_t119) a + S1x16.size a ≤ S72x256.size a := fun i v2038 v2040 k1_hw12 k1_t116 k1_t119 => k1_hw12.2.2.2.1.2.2.2.2.2.2.2.2.2.2.2.2.2.2.2.2.2.2.2.2.2.2.1 k1_t116 k1_t119
theorem k1_off1619_inb : ∀ (i : grid1.Coords) (v2038 : BitVec 32) (v2040 : BitVec 32) (k1_hw12 : k1_chk12 i v2038 v2040) (k1_t116 : Fin (k1_t116_loop v2038 v2040).trips) (k1_t119 : Fin (k1_t119_loop v2038 v2040 k1_t116).trips), ∀ a, (k1_off1619 v2038 v2040 k1_t116 k1_t119) a + S1x16.size a ≤ S72x256.size a := fun i v2038 v2040 k1_hw12 k1_t116 k1_t119 => k1_hw12.2.2.2.1.2.2.2.2.2.2.2.2.2.2.2.2.2.2.2.2.2.2.2.2.2.2.2.1 k1_t116 k1_t119
theorem k1_off1620_inb : ∀ (i : grid1.Coords) (v2038 : BitVec 32) (v2040 : BitVec 32) (k1_hw12 : k1_chk12 i v2038 v2040) (k1_t116 : Fin (k1_t116_loop v2038 v2040).trips) (k1_t119 : Fin (k1_t119_loop v2038 v2040 k1_t116).trips), ∀ a, (k1_off1620 v2038 v2040 k1_t116 k1_t119) a + S1x16.size a ≤ S72x256.size a := fun i v2038 v2040 k1_hw12 k1_t116 k1_t119 => k1_hw12.2.2.2.1.2.2.2.2.2.2.2.2.2.2.2.2.2.2.2.2.2.2.2.2.2.2.2.2.1 k1_t116 k1_t119
theorem k1_off1621_inb : ∀ (i : grid1.Coords) (v2038 : BitVec 32) (v2040 : BitVec 32) (k1_hw12 : k1_chk12 i v2038 v2040) (k1_t116 : Fin (k1_t116_loop v2038 v2040).trips) (k1_t119 : Fin (k1_t119_loop v2038 v2040 k1_t116).trips), ∀ a, (k1_off1621 v2038 v2040 k1_t116 k1_t119) a + S1x16.size a ≤ S72x256.size a := fun i v2038 v2040 k1_hw12 k1_t116 k1_t119 => k1_hw12.2.2.2.1.2.2.2.2.2.2.2.2.2.2.2.2.2.2.2.2.2.2.2.2.2.2.2.2.2.1 k1_t116 k1_t119
theorem k1_off1622_inb : ∀ (i : grid1.Coords) (v2038 : BitVec 32) (v2040 : BitVec 32) (k1_hw12 : k1_chk12 i v2038 v2040) (k1_t116 : Fin (k1_t116_loop v2038 v2040).trips) (k1_t119 : Fin (k1_t119_loop v2038 v2040 k1_t116).trips), ∀ a, (k1_off1622 v2038 v2040 k1_t116 k1_t119) a + S1x16.size a ≤ S72x256.size a := fun i v2038 v2040 k1_hw12 k1_t116 k1_t119 => k1_hw12.2.2.2.1.2.2.2.2.2.2.2.2.2.2.2.2.2.2.2.2.2.2.2.2.2.2.2.2.2.2.1 k1_t116 k1_t119
theorem k1_off1623_inb : ∀ (i : grid1.Coords) (v2038 : BitVec 32) (v2040 : BitVec 32) (k1_hw12 : k1_chk12 i v2038 v2040) (k1_t116 : Fin (k1_t116_loop v2038 v2040).trips) (k1_t119 : Fin (k1_t119_loop v2038 v2040 k1_t116).trips), ∀ a, (k1_off1623 v2038 v2040 k1_t116 k1_t119) a + S1x16.size a ≤ S72x256.size a := fun i v2038 v2040 k1_hw12 k1_t116 k1_t119 => k1_hw12.2.2.2.1.2.2.2.2.2.2.2.2.2.2.2.2.2.2.2.2.2.2.2.2.2.2.2.2.2.2.2.1 k1_t116 k1_t119
theorem k1_off1624_inb : ∀ (i : grid1.Coords) (v2038 : BitVec 32) (v2040 : BitVec 32) (k1_hw12 : k1_chk12 i v2038 v2040) (k1_t116 : Fin (k1_t116_loop v2038 v2040).trips) (k1_t119 : Fin (k1_t119_loop v2038 v2040 k1_t116).trips), ∀ a, (k1_off1624 v2038 v2040 k1_t116 k1_t119) a + S1x16.size a ≤ S72x256.size a := fun i v2038 v2040 k1_hw12 k1_t116 k1_t119 => k1_hw12.2.2.2.1.2.2.2.2.2.2.2.2.2.2.2.2.2.2.2.2.2.2.2.2.2.2.2.2.2.2.2.2.1 k1_t116 k1_t119
theorem k1_off1625_inb : ∀ (i : grid1.Coords) (v2038 : BitVec 32) (v2040 : BitVec 32) (k1_hw12 : k1_chk12 i v2038 v2040) (k1_t116 : Fin (k1_t116_loop v2038 v2040).trips) (k1_t119 : Fin (k1_t119_loop v2038 v2040 k1_t116).trips), ∀ a, (k1_off1625 v2038 v2040 k1_t116 k1_t119) a + S1x16.size a ≤ S72x256.size a := fun i v2038 v2040 k1_hw12 k1_t116 k1_t119 => k1_hw12.2.2.2.1.2.2.2.2.2.2.2.2.2.2.2.2.2.2.2.2.2.2.2.2.2.2.2.2.2.2.2.2.2.1 k1_t116 k1_t119
theorem k1_off1626_inb : ∀ (i : grid1.Coords) (v2038 : BitVec 32) (v2040 : BitVec 32) (k1_hw12 : k1_chk12 i v2038 v2040) (k1_t116 : Fin (k1_t116_loop v2038 v2040).trips) (k1_t119 : Fin (k1_t119_loop v2038 v2040 k1_t116).trips), ∀ a, (k1_off1626 v2038 v2040 k1_t116 k1_t119) a + S1x16.size a ≤ S72x256.size a := fun i v2038 v2040 k1_hw12 k1_t116 k1_t119 => k1_hw12.2.2.2.1.2.2.2.2.2.2.2.2.2.2.2.2.2.2.2.2.2.2.2.2.2.2.2.2.2.2.2.2.2.2.1 k1_t116 k1_t119
theorem k1_off1627_inb : ∀ (i : grid1.Coords) (v2038 : BitVec 32) (v2040 : BitVec 32) (k1_hw12 : k1_chk12 i v2038 v2040) (k1_t116 : Fin (k1_t116_loop v2038 v2040).trips) (k1_t119 : Fin (k1_t119_loop v2038 v2040 k1_t116).trips), ∀ a, (k1_off1627 v2038 v2040 k1_t116 k1_t119) a + S1x16.size a ≤ S72x256.size a := fun i v2038 v2040 k1_hw12 k1_t116 k1_t119 => k1_hw12.2.2.2.1.2.2.2.2.2.2.2.2.2.2.2.2.2.2.2.2.2.2.2.2.2.2.2.2.2.2.2.2.2.2.2 k1_t116 k1_t119
theorem k1_off1628_inb : ∀ (i : grid1.Coords) (v2038 : BitVec 32) (v2040 : BitVec 32) (k1_hw12 : k1_chk12 i v2038 v2040) (k1_t116 : Fin (k1_t116_loop v2038 v2040).trips) (k1_t119 : Fin (k1_t119_loop v2038 v2040 k1_t116).trips), ∀ a, (k1_off1628 v2038 v2040 k1_t116 k1_t119) a + S1x16.size a ≤ S72x256.size a := fun i v2038 v2040 k1_hw12 k1_t116 k1_t119 => k1_hw12.2.2.2.2.1 k1_t116 k1_t119
theorem k1_off1629_inb : ∀ (i : grid1.Coords) (v2038 : BitVec 32) (v2040 : BitVec 32) (k1_hw12 : k1_chk12 i v2038 v2040) (k1_t116 : Fin (k1_t116_loop v2038 v2040).trips) (k1_t119 : Fin (k1_t119_loop v2038 v2040 k1_t116).trips), ∀ a, (k1_off1629 v2038 v2040 k1_t116 k1_t119) a + S1x16.size a ≤ S72x256.size a := fun i v2038 v2040 k1_hw12 k1_t116 k1_t119 => k1_hw12.2.2.2.2.2.1 k1_t116 k1_t119
theorem k1_t120_ok : ∀ (i : grid1.Coords) (v2038 : BitVec 32) (v2040 : BitVec 32) (k1_hw12 : k1_chk12 i v2038 v2040) (k1_t116 : Fin (k1_t116_loop v2038 v2040).trips), (k1_t120_loop v2038 v2040 k1_t116).OK := fun i v2038 v2040 k1_hw12 k1_t116 => k1_hw12.2.2.2.2.2.2.1 k1_t116
theorem k1_off1630_inb : ∀ (i : grid1.Coords) (v2038 : BitVec 32) (v2040 : BitVec 32) (k1_hw12 : k1_chk12 i v2038 v2040) (k1_t116 : Fin (k1_t116_loop v2038 v2040).trips) (k1_t120 : Fin (k1_t120_loop v2038 v2040 k1_t116).trips), ∀ a, (k1_off1630 v2038 v2040 k1_t116 k1_t120) a + S1x16.size a ≤ S72x256.size a := fun i v2038 v2040 k1_hw12 k1_t116 k1_t120 => k1_hw12.2.2.2.2.2.2.2.1 k1_t116 k1_t120
theorem k1_off1631_inb : ∀ (i : grid1.Coords) (v2038 : BitVec 32) (v2040 : BitVec 32) (k1_hw12 : k1_chk12 i v2038 v2040) (k1_t116 : Fin (k1_t116_loop v2038 v2040).trips) (k1_t120 : Fin (k1_t120_loop v2038 v2040 k1_t116).trips), ∀ a, (k1_off1631 v2038 v2040 k1_t116 k1_t120) a + S1x16.size a ≤ S72x256.size a := fun i v2038 v2040 k1_hw12 k1_t116 k1_t120 => k1_hw12.2.2.2.2.2.2.2.2.1 k1_t116 k1_t120
theorem k1_off1632_inb : ∀ (i : grid1.Coords) (v2038 : BitVec 32) (v2040 : BitVec 32) (k1_hw12 : k1_chk12 i v2038 v2040) (k1_t116 : Fin (k1_t116_loop v2038 v2040).trips) (k1_t120 : Fin (k1_t120_loop v2038 v2040 k1_t116).trips), ∀ a, (k1_off1632 v2038 v2040 k1_t116 k1_t120) a + S1x16.size a ≤ S72x256.size a := fun i v2038 v2040 k1_hw12 k1_t116 k1_t120 => k1_hw12.2.2.2.2.2.2.2.2.2.1 k1_t116 k1_t120
theorem k1_off1633_inb : ∀ (i : grid1.Coords) (v2038 : BitVec 32) (v2040 : BitVec 32) (k1_hw12 : k1_chk12 i v2038 v2040) (k1_t116 : Fin (k1_t116_loop v2038 v2040).trips) (k1_t120 : Fin (k1_t120_loop v2038 v2040 k1_t116).trips), ∀ a, (k1_off1633 v2038 v2040 k1_t116 k1_t120) a + S1x16.size a ≤ S72x256.size a := fun i v2038 v2040 k1_hw12 k1_t116 k1_t120 => k1_hw12.2.2.2.2.2.2.2.2.2.2.1 k1_t116 k1_t120
theorem k1_off1634_inb : ∀ (i : grid1.Coords) (v2038 : BitVec 32) (v2040 : BitVec 32) (k1_hw12 : k1_chk12 i v2038 v2040) (k1_t116 : Fin (k1_t116_loop v2038 v2040).trips) (k1_t120 : Fin (k1_t120_loop v2038 v2040 k1_t116).trips), ∀ a, (k1_off1634 v2038 v2040 k1_t116 k1_t120) a + S1x16.size a ≤ S72x256.size a := fun i v2038 v2040 k1_hw12 k1_t116 k1_t120 => k1_hw12.2.2.2.2.2.2.2.2.2.2.2.1 k1_t116 k1_t120
theorem k1_off1635_inb : ∀ (i : grid1.Coords) (v2038 : BitVec 32) (v2040 : BitVec 32) (k1_hw12 : k1_chk12 i v2038 v2040) (k1_t116 : Fin (k1_t116_loop v2038 v2040).trips) (k1_t120 : Fin (k1_t120_loop v2038 v2040 k1_t116).trips), ∀ a, (k1_off1635 v2038 v2040 k1_t116 k1_t120) a + S1x16.size a ≤ S72x256.size a := fun i v2038 v2040 k1_hw12 k1_t116 k1_t120 => k1_hw12.2.2.2.2.2.2.2.2.2.2.2.2.1 k1_t116 k1_t120
theorem k1_off1636_inb : ∀ (i : grid1.Coords) (v2038 : BitVec 32) (v2040 : BitVec 32) (k1_hw12 : k1_chk12 i v2038 v2040) (k1_t116 : Fin (k1_t116_loop v2038 v2040).trips) (k1_t120 : Fin (k1_t120_loop v2038 v2040 k1_t116).trips), ∀ a, (k1_off1636 v2038 v2040 k1_t116 k1_t120) a + S1x16.size a ≤ S72x256.size a := fun i v2038 v2040 k1_hw12 k1_t116 k1_t120 => k1_hw12.2.2.2.2.2.2.2.2.2.2.2.2.2.1 k1_t116 k1_t120
theorem k1_off1637_inb : ∀ (i : grid1.Coords) (v2038 : BitVec 32) (v2040 : BitVec 32) (k1_hw12 : k1_chk12 i v2038 v2040) (k1_t116 : Fin (k1_t116_loop v2038 v2040).trips) (k1_t120 : Fin (k1_t120_loop v2038 v2040 k1_t116).trips), ∀ a, (k1_off1637 v2038 v2040 k1_t116 k1_t120) a + S1x16.size a ≤ S72x256.size a := fun i v2038 v2040 k1_hw12 k1_t116 k1_t120 => k1_hw12.2.2.2.2.2.2.2.2.2.2.2.2.2.2.1 k1_t116 k1_t120
theorem k1_off1638_inb : ∀ (i : grid1.Coords) (v2038 : BitVec 32) (v2040 : BitVec 32) (k1_hw12 : k1_chk12 i v2038 v2040) (k1_t116 : Fin (k1_t116_loop v2038 v2040).trips) (k1_t120 : Fin (k1_t120_loop v2038 v2040 k1_t116).trips), ∀ a, (k1_off1638 v2038 v2040 k1_t116 k1_t120) a + S1x16.size a ≤ S72x256.size a := fun i v2038 v2040 k1_hw12 k1_t116 k1_t120 => k1_hw12.2.2.2.2.2.2.2.2.2.2.2.2.2.2.2.1 k1_t116 k1_t120
theorem k1_off1639_inb : ∀ (i : grid1.Coords) (v2038 : BitVec 32) (v2040 : BitVec 32) (k1_hw12 : k1_chk12 i v2038 v2040) (k1_t116 : Fin (k1_t116_loop v2038 v2040).trips) (k1_t120 : Fin (k1_t120_loop v2038 v2040 k1_t116).trips), ∀ a, (k1_off1639 v2038 v2040 k1_t116 k1_t120) a + S1x16.size a ≤ S72x256.size a := fun i v2038 v2040 k1_hw12 k1_t116 k1_t120 => k1_hw12.2.2.2.2.2.2.2.2.2.2.2.2.2.2.2.2.1 k1_t116 k1_t120
theorem k1_off1640_inb : ∀ (i : grid1.Coords) (v2038 : BitVec 32) (v2040 : BitVec 32) (k1_hw12 : k1_chk12 i v2038 v2040) (k1_t116 : Fin (k1_t116_loop v2038 v2040).trips) (k1_t120 : Fin (k1_t120_loop v2038 v2040 k1_t116).trips), ∀ a, (k1_off1640 v2038 v2040 k1_t116 k1_t120) a + S1x16.size a ≤ S72x256.size a := fun i v2038 v2040 k1_hw12 k1_t116 k1_t120 => k1_hw12.2.2.2.2.2.2.2.2.2.2.2.2.2.2.2.2.2.1 k1_t116 k1_t120
theorem k1_off1641_inb : ∀ (i : grid1.Coords) (v2038 : BitVec 32) (v2040 : BitVec 32) (k1_hw12 : k1_chk12 i v2038 v2040) (k1_t116 : Fin (k1_t116_loop v2038 v2040).trips) (k1_t120 : Fin (k1_t120_loop v2038 v2040 k1_t116).trips), ∀ a, (k1_off1641 v2038 v2040 k1_t116 k1_t120) a + S1x16.size a ≤ S72x256.size a := fun i v2038 v2040 k1_hw12 k1_t116 k1_t120 => k1_hw12.2.2.2.2.2.2.2.2.2.2.2.2.2.2.2.2.2.2.1 k1_t116 k1_t120
theorem k1_off1642_inb : ∀ (i : grid1.Coords) (v2038 : BitVec 32) (v2040 : BitVec 32) (k1_hw12 : k1_chk12 i v2038 v2040) (k1_t116 : Fin (k1_t116_loop v2038 v2040).trips) (k1_t120 : Fin (k1_t120_loop v2038 v2040 k1_t116).trips), ∀ a, (k1_off1642 v2038 v2040 k1_t116 k1_t120) a + S1x16.size a ≤ S72x256.size a := fun i v2038 v2040 k1_hw12 k1_t116 k1_t120 => k1_hw12.2.2.2.2.2.2.2.2.2.2.2.2.2.2.2.2.2.2.2.1 k1_t116 k1_t120
theorem k1_off1643_inb : ∀ (i : grid1.Coords) (v2038 : BitVec 32) (v2040 : BitVec 32) (k1_hw12 : k1_chk12 i v2038 v2040) (k1_t116 : Fin (k1_t116_loop v2038 v2040).trips) (k1_t120 : Fin (k1_t120_loop v2038 v2040 k1_t116).trips), ∀ a, (k1_off1643 v2038 v2040 k1_t116 k1_t120) a + S1x16.size a ≤ S72x256.size a := fun i v2038 v2040 k1_hw12 k1_t116 k1_t120 => k1_hw12.2.2.2.2.2.2.2.2.2.2.2.2.2.2.2.2.2.2.2.2.1 k1_t116 k1_t120
theorem k1_off1644_inb : ∀ (i : grid1.Coords) (v2038 : BitVec 32) (v2040 : BitVec 32) (k1_hw12 : k1_chk12 i v2038 v2040) (k1_t116 : Fin (k1_t116_loop v2038 v2040).trips) (k1_t120 : Fin (k1_t120_loop v2038 v2040 k1_t116).trips), ∀ a, (k1_off1644 v2038 v2040 k1_t116 k1_t120) a + S1x16.size a ≤ S72x256.size a := fun i v2038 v2040 k1_hw12 k1_t116 k1_t120 => k1_hw12.2.2.2.2.2.2.2.2.2.2.2.2.2.2.2.2.2.2.2.2.2.1 k1_t116 k1_t120
theorem k1_off1645_inb : ∀ (i : grid1.Coords) (v2038 : BitVec 32) (v2040 : BitVec 32) (k1_hw12 : k1_chk12 i v2038 v2040) (k1_t116 : Fin (k1_t116_loop v2038 v2040).trips) (k1_t120 : Fin (k1_t120_loop v2038 v2040 k1_t116).trips), ∀ a, (k1_off1645 v2038 v2040 k1_t116 k1_t120) a + S1x16.size a ≤ S72x256.size a := fun i v2038 v2040 k1_hw12 k1_t116 k1_t120 => k1_hw12.2.2.2.2.2.2.2.2.2.2.2.2.2.2.2.2.2.2.2.2.2.2 k1_t116 k1_t120

def k1_off1646 (i : grid1.Coords) (v2220 : BitVec 32) : Fin 2 → Nat :=
  let c0_i32_1408 : BitVec 32 := 0#32
  let v2949 : BitVec 32 := Scalar.addi v2220 c0_i32_1408
  let c0_i32_1410 : BitVec 32 := 0#32
  let v2951 : BitVec 1 := Scalar.cmpi .sgt v2949 c0_i32_1410
  let v2952 : BitVec 32 := Scalar.extui v2951
  let c0_i32_1411 : BitVec 32 := 0#32
  let v2953 : BitVec 1 := Scalar.cmpi .slt v2949 c0_i32_1411
  let v2954 : BitVec 32 := Scalar.extui v2953
  let v2955 : BitVec 32 := Scalar.subi v2952 v2954
  let c8_i32_1409 : BitVec 32 := 8#32
  let c0_i32_1412 : BitVec 32 := 0#32
  let v2956 : BitVec 1 := Scalar.cmpi .sgt c8_i32_1409 c0_i32_1412
  let v2957 : BitVec 32 := Scalar.extui v2956
  let c0_i32_1413 : BitVec 32 := 0#32
  let v2958 : BitVec 1 := Scalar.cmpi .slt c8_i32_1409 c0_i32_1413
  let v2959 : BitVec 32 := Scalar.extui v2958
  let v2960 : BitVec 32 := Scalar.subi v2957 v2959
  let v2961 : BitVec 1 := Scalar.cmpi .ne v2955 v2960
  let v2962 : BitVec 32 := Scalar.remsi v2949 c8_i32_1409
  let c0_i32_1414 : BitVec 32 := 0#32
  let v2963 : BitVec 1 := Scalar.cmpi .ne v2962 c0_i32_1414
  let v2964 : BitVec 1 := Scalar.andi v2961 v2963
  let v2950 : BitVec 32 := Scalar.divsi v2949 c8_i32_1409
  let c1_i32_1415 : BitVec 32 := 1#32
  let v2965 : BitVec 32 := Scalar.subi v2950 c1_i32_1415
  let v2966 : BitVec 32 := Scalar.select v2964 v2965 v2950
  let c8_i32_1416 : BitVec 32 := 8#32
  let v2967 : BitVec 32 := Scalar.muli v2966 c8_i32_1416
  let c99928_i32 : BitVec 32 := 99928#32
  let v2968 : BitVec 32 := Scalar.minsi v2967 c99928_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v2968.toNat, v29.toNat]
def k1_cond109 (v2220 : BitVec 32) (v2222 : BitVec 32) : BitVec 1 :=
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c0_i32_1065 : BitVec 32 := 0#32
  let v2245 : BitVec 1 := Scalar.cmpi .sgt v2244 c0_i32_1065
  let v2246 : BitVec 32 := Scalar.extui v2245
  let c0_i32_1066 : BitVec 32 := 0#32
  let v2247 : BitVec 1 := Scalar.cmpi .ne v2246 c0_i32_1066
  v2247

@[reducible] def k1_t121_loop (v2220 : BitVec 32) (v2222 : BitVec 32) : Scf.Loop 32 :=
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1077 : BitVec 32 := 1#32
  ⟨c0_i32_1075, v2270, c1_i32_1077⟩
def k1_off1647 (i : grid1.Coords) (v2220 : BitVec 32) (v2222 : BitVec 32) (k1_t121 : Fin (k1_t121_loop v2220 v2222).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1446 : BitVec 32 := 64#32
  let v3026 : BitVec 32 := Scalar.muli v2949 c64_i32_1446
  let v3027 : BitVec 32 := Scalar.addi v2220 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond110 (v2220 : BitVec 32) (v2222 : BitVec 32) (k1_t121 : Fin (k1_t121_loop v2220 v2222).trips) : BitVec 1 :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let v2950 : BitVec 1 := Scalar.cmpi .slt v2949 v2244
  let v2951 : BitVec 32 := Scalar.extui v2950
  let c0_i32_1409 : BitVec 32 := 0#32
  let v2952 : BitVec 1 := Scalar.cmpi .ne v2951 c0_i32_1409
  v2952

def k1_off1648 (i : grid1.Coords) (v2220 : BitVec 32) (v2222 : BitVec 32) (k1_t121 : Fin (k1_t121_loop v2220 v2222).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v2220 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond111 (v2220 : BitVec 32) (v2222 : BitVec 32) (k1_t121 : Fin (k1_t121_loop v2220 v2222).trips) : BitVec 1 :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c1_i32_1456 : BitVec 32 := 1#32
  let v3049 : BitVec 32 := Scalar.addi v2949 c1_i32_1456
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let v3050 : BitVec 1 := Scalar.cmpi .slt v3049 v2244
  let v3051 : BitVec 32 := Scalar.extui v3050
  let c0_i32_1457 : BitVec 32 := 0#32
  let v3052 : BitVec 1 := Scalar.cmpi .ne v3051 c0_i32_1457
  v3052

@[reducible] def k1_t122_loop (v2220 : BitVec 32) (v2222 : BitVec 32) (k1_t121 : Fin (k1_t121_loop v2220 v2222).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off1649 (v2220 : BitVec 32) (v2222 : BitVec 32) (k1_t121 : Fin (k1_t121_loop v2220 v2222).trips) (k1_t122 : Fin (k1_t122_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t122
  let v3026 : BitVec 32 := Scalar.addi v2976 arg46
  let v3027 : Index := Scalar.indexCast v3026
  let c0_1446 : Index := 0#32
  ![v3027.toNat, 0]
def k1_off1650 (v2220 : BitVec 32) (v2222 : BitVec 32) (k1_t121 : Fin (k1_t121_loop v2220 v2222).trips) (k1_t122 : Fin (k1_t122_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t122
  let v3026 : BitVec 32 := Scalar.addi v2976 arg46
  let v3032 : Index := Scalar.indexCast v3026
  let c16_1447 : Index := 16#32
  ![v3032.toNat, 16]
def k1_off1651 (v2220 : BitVec 32) (v2222 : BitVec 32) (k1_t121 : Fin (k1_t121_loop v2220 v2222).trips) (k1_t122 : Fin (k1_t122_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t122
  let v3026 : BitVec 32 := Scalar.addi v2976 arg46
  let v3037 : Index := Scalar.indexCast v3026
  let c32_1448 : Index := 32#32
  ![v3037.toNat, 32]
def k1_off1652 (v2220 : BitVec 32) (v2222 : BitVec 32) (k1_t121 : Fin (k1_t121_loop v2220 v2222).trips) (k1_t122 : Fin (k1_t122_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t122
  let v3026 : BitVec 32 := Scalar.addi v2976 arg46
  let v3042 : Index := Scalar.indexCast v3026
  let c48_1449 : Index := 48#32
  ![v3042.toNat, 48]
def k1_off1653 (v2220 : BitVec 32) (v2222 : BitVec 32) (k1_t121 : Fin (k1_t121_loop v2220 v2222).trips) (k1_t122 : Fin (k1_t122_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t122
  let v3026 : BitVec 32 := Scalar.addi v2976 arg46
  let v3047 : Index := Scalar.indexCast v3026
  let c64_1450 : Index := 64#32
  ![v3047.toNat, 64]
def k1_off1654 (v2220 : BitVec 32) (v2222 : BitVec 32) (k1_t121 : Fin (k1_t121_loop v2220 v2222).trips) (k1_t122 : Fin (k1_t122_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t122
  let v3026 : BitVec 32 := Scalar.addi v2976 arg46
  let v3052 : Index := Scalar.indexCast v3026
  let c80_1451 : Index := 80#32
  ![v3052.toNat, 80]
def k1_off1655 (v2220 : BitVec 32) (v2222 : BitVec 32) (k1_t121 : Fin (k1_t121_loop v2220 v2222).trips) (k1_t122 : Fin (k1_t122_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t122
  let v3026 : BitVec 32 := Scalar.addi v2976 arg46
  let v3057 : Index := Scalar.indexCast v3026
  let c96_1452 : Index := 96#32
  ![v3057.toNat, 96]
def k1_off1656 (v2220 : BitVec 32) (v2222 : BitVec 32) (k1_t121 : Fin (k1_t121_loop v2220 v2222).trips) (k1_t122 : Fin (k1_t122_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t122
  let v3026 : BitVec 32 := Scalar.addi v2976 arg46
  let v3062 : Index := Scalar.indexCast v3026
  let c112_1453 : Index := 112#32
  ![v3062.toNat, 112]
def k1_off1657 (v2220 : BitVec 32) (v2222 : BitVec 32) (k1_t121 : Fin (k1_t121_loop v2220 v2222).trips) (k1_t122 : Fin (k1_t122_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t122
  let v3026 : BitVec 32 := Scalar.addi v2976 arg46
  let v3067 : Index := Scalar.indexCast v3026
  let c128_1454 : Index := 128#32
  ![v3067.toNat, 128]
def k1_off1658 (v2220 : BitVec 32) (v2222 : BitVec 32) (k1_t121 : Fin (k1_t121_loop v2220 v2222).trips) (k1_t122 : Fin (k1_t122_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t122
  let v3026 : BitVec 32 := Scalar.addi v2976 arg46
  let v3072 : Index := Scalar.indexCast v3026
  let c144_1455 : Index := 144#32
  ![v3072.toNat, 144]
def k1_off1659 (v2220 : BitVec 32) (v2222 : BitVec 32) (k1_t121 : Fin (k1_t121_loop v2220 v2222).trips) (k1_t122 : Fin (k1_t122_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t122
  let v3026 : BitVec 32 := Scalar.addi v2976 arg46
  let v3077 : Index := Scalar.indexCast v3026
  let c160_1456 : Index := 160#32
  ![v3077.toNat, 160]
def k1_off1660 (v2220 : BitVec 32) (v2222 : BitVec 32) (k1_t121 : Fin (k1_t121_loop v2220 v2222).trips) (k1_t122 : Fin (k1_t122_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t122
  let v3026 : BitVec 32 := Scalar.addi v2976 arg46
  let v3082 : Index := Scalar.indexCast v3026
  let c176_1457 : Index := 176#32
  ![v3082.toNat, 176]
def k1_off1661 (v2220 : BitVec 32) (v2222 : BitVec 32) (k1_t121 : Fin (k1_t121_loop v2220 v2222).trips) (k1_t122 : Fin (k1_t122_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t122
  let v3026 : BitVec 32 := Scalar.addi v2976 arg46
  let v3087 : Index := Scalar.indexCast v3026
  let c192_1458 : Index := 192#32
  ![v3087.toNat, 192]
def k1_off1662 (v2220 : BitVec 32) (v2222 : BitVec 32) (k1_t121 : Fin (k1_t121_loop v2220 v2222).trips) (k1_t122 : Fin (k1_t122_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t122
  let v3026 : BitVec 32 := Scalar.addi v2976 arg46
  let v3092 : Index := Scalar.indexCast v3026
  let c208_1459 : Index := 208#32
  ![v3092.toNat, 208]
def k1_off1663 (v2220 : BitVec 32) (v2222 : BitVec 32) (k1_t121 : Fin (k1_t121_loop v2220 v2222).trips) (k1_t122 : Fin (k1_t122_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t122
  let v3026 : BitVec 32 := Scalar.addi v2976 arg46
  let v3097 : Index := Scalar.indexCast v3026
  let c224_1460 : Index := 224#32
  ![v3097.toNat, 224]
def k1_off1664 (v2220 : BitVec 32) (v2222 : BitVec 32) (k1_t121 : Fin (k1_t121_loop v2220 v2222).trips) (k1_t122 : Fin (k1_t122_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t122
  let v3026 : BitVec 32 := Scalar.addi v2976 arg46
  let v3102 : Index := Scalar.indexCast v3026
  let c240_1461 : Index := 240#32
  ![v3102.toNat, 240]
@[reducible] def k1_t123_loop (v2220 : BitVec 32) (v2222 : BitVec 32) (k1_t121 : Fin (k1_t121_loop v2220 v2222).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off1665 (v2220 : BitVec 32) (v2222 : BitVec 32) (k1_t121 : Fin (k1_t121_loop v2220 v2222).trips) (k1_t123 : Fin (k1_t123_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t123
  let v3026 : BitVec 32 := Scalar.addi v2976 arg46
  let v3027 : Index := Scalar.indexCast v3026
  let c0_1446 : Index := 0#32
  ![v3027.toNat, 0]
def k1_off1666 (v2220 : BitVec 32) (v2222 : BitVec 32) (k1_t121 : Fin (k1_t121_loop v2220 v2222).trips) (k1_t123 : Fin (k1_t123_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t123
  let v3026 : BitVec 32 := Scalar.addi v2976 arg46
  let v3032 : Index := Scalar.indexCast v3026
  let c16_1447 : Index := 16#32
  ![v3032.toNat, 16]
def k1_off1667 (v2220 : BitVec 32) (v2222 : BitVec 32) (k1_t121 : Fin (k1_t121_loop v2220 v2222).trips) (k1_t123 : Fin (k1_t123_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t123
  let v3026 : BitVec 32 := Scalar.addi v2976 arg46
  let v3037 : Index := Scalar.indexCast v3026
  let c32_1448 : Index := 32#32
  ![v3037.toNat, 32]
def k1_off1668 (v2220 : BitVec 32) (v2222 : BitVec 32) (k1_t121 : Fin (k1_t121_loop v2220 v2222).trips) (k1_t123 : Fin (k1_t123_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t123
  let v3026 : BitVec 32 := Scalar.addi v2976 arg46
  let v3042 : Index := Scalar.indexCast v3026
  let c48_1449 : Index := 48#32
  ![v3042.toNat, 48]
def k1_off1669 (v2220 : BitVec 32) (v2222 : BitVec 32) (k1_t121 : Fin (k1_t121_loop v2220 v2222).trips) (k1_t123 : Fin (k1_t123_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t123
  let v3026 : BitVec 32 := Scalar.addi v2976 arg46
  let v3047 : Index := Scalar.indexCast v3026
  let c64_1450 : Index := 64#32
  ![v3047.toNat, 64]
def k1_off1670 (v2220 : BitVec 32) (v2222 : BitVec 32) (k1_t121 : Fin (k1_t121_loop v2220 v2222).trips) (k1_t123 : Fin (k1_t123_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t123
  let v3026 : BitVec 32 := Scalar.addi v2976 arg46
  let v3052 : Index := Scalar.indexCast v3026
  let c80_1451 : Index := 80#32
  ![v3052.toNat, 80]
def k1_off1671 (v2220 : BitVec 32) (v2222 : BitVec 32) (k1_t121 : Fin (k1_t121_loop v2220 v2222).trips) (k1_t123 : Fin (k1_t123_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t123
  let v3026 : BitVec 32 := Scalar.addi v2976 arg46
  let v3057 : Index := Scalar.indexCast v3026
  let c96_1452 : Index := 96#32
  ![v3057.toNat, 96]
def k1_off1672 (v2220 : BitVec 32) (v2222 : BitVec 32) (k1_t121 : Fin (k1_t121_loop v2220 v2222).trips) (k1_t123 : Fin (k1_t123_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t123
  let v3026 : BitVec 32 := Scalar.addi v2976 arg46
  let v3062 : Index := Scalar.indexCast v3026
  let c112_1453 : Index := 112#32
  ![v3062.toNat, 112]
def k1_off1673 (v2220 : BitVec 32) (v2222 : BitVec 32) (k1_t121 : Fin (k1_t121_loop v2220 v2222).trips) (k1_t123 : Fin (k1_t123_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t123
  let v3026 : BitVec 32 := Scalar.addi v2976 arg46
  let v3067 : Index := Scalar.indexCast v3026
  let c128_1454 : Index := 128#32
  ![v3067.toNat, 128]
def k1_off1674 (v2220 : BitVec 32) (v2222 : BitVec 32) (k1_t121 : Fin (k1_t121_loop v2220 v2222).trips) (k1_t123 : Fin (k1_t123_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t123
  let v3026 : BitVec 32 := Scalar.addi v2976 arg46
  let v3072 : Index := Scalar.indexCast v3026
  let c144_1455 : Index := 144#32
  ![v3072.toNat, 144]
def k1_off1675 (v2220 : BitVec 32) (v2222 : BitVec 32) (k1_t121 : Fin (k1_t121_loop v2220 v2222).trips) (k1_t123 : Fin (k1_t123_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t123
  let v3026 : BitVec 32 := Scalar.addi v2976 arg46
  let v3077 : Index := Scalar.indexCast v3026
  let c160_1456 : Index := 160#32
  ![v3077.toNat, 160]
def k1_off1676 (v2220 : BitVec 32) (v2222 : BitVec 32) (k1_t121 : Fin (k1_t121_loop v2220 v2222).trips) (k1_t123 : Fin (k1_t123_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t123
  let v3026 : BitVec 32 := Scalar.addi v2976 arg46
  let v3082 : Index := Scalar.indexCast v3026
  let c176_1457 : Index := 176#32
  ![v3082.toNat, 176]
def k1_off1677 (v2220 : BitVec 32) (v2222 : BitVec 32) (k1_t121 : Fin (k1_t121_loop v2220 v2222).trips) (k1_t123 : Fin (k1_t123_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t123
  let v3026 : BitVec 32 := Scalar.addi v2976 arg46
  let v3087 : Index := Scalar.indexCast v3026
  let c192_1458 : Index := 192#32
  ![v3087.toNat, 192]
def k1_off1678 (v2220 : BitVec 32) (v2222 : BitVec 32) (k1_t121 : Fin (k1_t121_loop v2220 v2222).trips) (k1_t123 : Fin (k1_t123_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t123
  let v3026 : BitVec 32 := Scalar.addi v2976 arg46
  let v3092 : Index := Scalar.indexCast v3026
  let c208_1459 : Index := 208#32
  ![v3092.toNat, 208]
def k1_off1679 (v2220 : BitVec 32) (v2222 : BitVec 32) (k1_t121 : Fin (k1_t121_loop v2220 v2222).trips) (k1_t123 : Fin (k1_t123_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t123
  let v3026 : BitVec 32 := Scalar.addi v2976 arg46
  let v3097 : Index := Scalar.indexCast v3026
  let c224_1460 : Index := 224#32
  ![v3097.toNat, 224]
def k1_off1680 (v2220 : BitVec 32) (v2222 : BitVec 32) (k1_t121 : Fin (k1_t121_loop v2220 v2222).trips) (k1_t123 : Fin (k1_t123_loop v2220 v2222 k1_t121).trips) : Fin 2 → Nat :=
  let c2_i32_1408 : BitVec 32 := 2#32
  let c0_i32_1075 : BitVec 32 := 0#32
  let c1_i32_1077 : BitVec 32 := 1#32
  let arg13 : BitVec 32 := Scf.iv c0_i32_1075 c1_i32_1077 k1_t121
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t123
  let v3026 : BitVec 32 := Scalar.addi v2976 arg46
  let v3102 : Index := Scalar.indexCast v3026
  let c240_1461 : Index := 240#32
  ![v3102.toNat, 240]
def k1_off1681 (i : grid1.Coords) (v2220 : BitVec 32) (v2222 : BitVec 32) (k1_t121 : Fin (k1_t121_loop v2220 v2222).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v2220 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond112 (v2220 : BitVec 32) (v2222 : BitVec 32) (k1_t121 : Fin (k1_t121_loop v2220 v2222).trips) : BitVec 1 :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let v2989 : BitVec 1 := Scalar.cmpi .slt v2988 v2244
  let v2990 : BitVec 32 := Scalar.extui v2989
  let c0_i32_1428 : BitVec 32 := 0#32
  let v2991 : BitVec 1 := Scalar.cmpi .ne v2990 c0_i32_1428
  v2991

def k1_off1682 (i : grid1.Coords) (v2220 : BitVec 32) (v2222 : BitVec 32) (k1_t121 : Fin (k1_t121_loop v2220 v2222).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v2220 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond113 (v2220 : BitVec 32) (v2222 : BitVec 32) (k1_t121 : Fin (k1_t121_loop v2220 v2222).trips) : BitVec 1 :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let v3050 : BitVec 1 := Scalar.cmpi .slt v3049 v2244
  let v3051 : BitVec 32 := Scalar.extui v3050
  let c0_i32_1457 : BitVec 32 := 0#32
  let v3052 : BitVec 1 := Scalar.cmpi .ne v3051 c0_i32_1457
  v3052

@[reducible] def k1_t124_loop (v2220 : BitVec 32) (v2222 : BitVec 32) (k1_t121 : Fin (k1_t121_loop v2220 v2222).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off1683 (v2220 : BitVec 32) (v2222 : BitVec 32) (k1_t121 : Fin (k1_t121_loop v2220 v2222).trips) (k1_t124 : Fin (k1_t124_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t124
  let v3026 : BitVec 32 := Scalar.addi v3015 arg46
  let v3027 : Index := Scalar.indexCast v3026
  let c0_1446 : Index := 0#32
  ![v3027.toNat, 0]
def k1_off1684 (v2220 : BitVec 32) (v2222 : BitVec 32) (k1_t121 : Fin (k1_t121_loop v2220 v2222).trips) (k1_t124 : Fin (k1_t124_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t124
  let v3026 : BitVec 32 := Scalar.addi v3015 arg46
  let v3032 : Index := Scalar.indexCast v3026
  let c16_1447 : Index := 16#32
  ![v3032.toNat, 16]
def k1_off1685 (v2220 : BitVec 32) (v2222 : BitVec 32) (k1_t121 : Fin (k1_t121_loop v2220 v2222).trips) (k1_t124 : Fin (k1_t124_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t124
  let v3026 : BitVec 32 := Scalar.addi v3015 arg46
  let v3037 : Index := Scalar.indexCast v3026
  let c32_1448 : Index := 32#32
  ![v3037.toNat, 32]
def k1_off1686 (v2220 : BitVec 32) (v2222 : BitVec 32) (k1_t121 : Fin (k1_t121_loop v2220 v2222).trips) (k1_t124 : Fin (k1_t124_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t124
  let v3026 : BitVec 32 := Scalar.addi v3015 arg46
  let v3042 : Index := Scalar.indexCast v3026
  let c48_1449 : Index := 48#32
  ![v3042.toNat, 48]
def k1_off1687 (v2220 : BitVec 32) (v2222 : BitVec 32) (k1_t121 : Fin (k1_t121_loop v2220 v2222).trips) (k1_t124 : Fin (k1_t124_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t124
  let v3026 : BitVec 32 := Scalar.addi v3015 arg46
  let v3047 : Index := Scalar.indexCast v3026
  let c64_1450 : Index := 64#32
  ![v3047.toNat, 64]
def k1_off1688 (v2220 : BitVec 32) (v2222 : BitVec 32) (k1_t121 : Fin (k1_t121_loop v2220 v2222).trips) (k1_t124 : Fin (k1_t124_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t124
  let v3026 : BitVec 32 := Scalar.addi v3015 arg46
  let v3052 : Index := Scalar.indexCast v3026
  let c80_1451 : Index := 80#32
  ![v3052.toNat, 80]
def k1_off1689 (v2220 : BitVec 32) (v2222 : BitVec 32) (k1_t121 : Fin (k1_t121_loop v2220 v2222).trips) (k1_t124 : Fin (k1_t124_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t124
  let v3026 : BitVec 32 := Scalar.addi v3015 arg46
  let v3057 : Index := Scalar.indexCast v3026
  let c96_1452 : Index := 96#32
  ![v3057.toNat, 96]
def k1_off1690 (v2220 : BitVec 32) (v2222 : BitVec 32) (k1_t121 : Fin (k1_t121_loop v2220 v2222).trips) (k1_t124 : Fin (k1_t124_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t124
  let v3026 : BitVec 32 := Scalar.addi v3015 arg46
  let v3062 : Index := Scalar.indexCast v3026
  let c112_1453 : Index := 112#32
  ![v3062.toNat, 112]
def k1_off1691 (v2220 : BitVec 32) (v2222 : BitVec 32) (k1_t121 : Fin (k1_t121_loop v2220 v2222).trips) (k1_t124 : Fin (k1_t124_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t124
  let v3026 : BitVec 32 := Scalar.addi v3015 arg46
  let v3067 : Index := Scalar.indexCast v3026
  let c128_1454 : Index := 128#32
  ![v3067.toNat, 128]
def k1_off1692 (v2220 : BitVec 32) (v2222 : BitVec 32) (k1_t121 : Fin (k1_t121_loop v2220 v2222).trips) (k1_t124 : Fin (k1_t124_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t124
  let v3026 : BitVec 32 := Scalar.addi v3015 arg46
  let v3072 : Index := Scalar.indexCast v3026
  let c144_1455 : Index := 144#32
  ![v3072.toNat, 144]
def k1_off1693 (v2220 : BitVec 32) (v2222 : BitVec 32) (k1_t121 : Fin (k1_t121_loop v2220 v2222).trips) (k1_t124 : Fin (k1_t124_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t124
  let v3026 : BitVec 32 := Scalar.addi v3015 arg46
  let v3077 : Index := Scalar.indexCast v3026
  let c160_1456 : Index := 160#32
  ![v3077.toNat, 160]
def k1_off1694 (v2220 : BitVec 32) (v2222 : BitVec 32) (k1_t121 : Fin (k1_t121_loop v2220 v2222).trips) (k1_t124 : Fin (k1_t124_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t124
  let v3026 : BitVec 32 := Scalar.addi v3015 arg46
  let v3082 : Index := Scalar.indexCast v3026
  let c176_1457 : Index := 176#32
  ![v3082.toNat, 176]
def k1_off1695 (v2220 : BitVec 32) (v2222 : BitVec 32) (k1_t121 : Fin (k1_t121_loop v2220 v2222).trips) (k1_t124 : Fin (k1_t124_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t124
  let v3026 : BitVec 32 := Scalar.addi v3015 arg46
  let v3087 : Index := Scalar.indexCast v3026
  let c192_1458 : Index := 192#32
  ![v3087.toNat, 192]
def k1_off1696 (v2220 : BitVec 32) (v2222 : BitVec 32) (k1_t121 : Fin (k1_t121_loop v2220 v2222).trips) (k1_t124 : Fin (k1_t124_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t124
  let v3026 : BitVec 32 := Scalar.addi v3015 arg46
  let v3092 : Index := Scalar.indexCast v3026
  let c208_1459 : Index := 208#32
  ![v3092.toNat, 208]
def k1_off1697 (v2220 : BitVec 32) (v2222 : BitVec 32) (k1_t121 : Fin (k1_t121_loop v2220 v2222).trips) (k1_t124 : Fin (k1_t124_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t124
  let v3026 : BitVec 32 := Scalar.addi v3015 arg46
  let v3097 : Index := Scalar.indexCast v3026
  let c224_1460 : Index := 224#32
  ![v3097.toNat, 224]
def k1_off1698 (v2220 : BitVec 32) (v2222 : BitVec 32) (k1_t121 : Fin (k1_t121_loop v2220 v2222).trips) (k1_t124 : Fin (k1_t124_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t124
  let v3026 : BitVec 32 := Scalar.addi v3015 arg46
  let v3102 : Index := Scalar.indexCast v3026
  let c240_1461 : Index := 240#32
  ![v3102.toNat, 240]
@[reducible] def k1_t125_loop (v2220 : BitVec 32) (v2222 : BitVec 32) (k1_t121 : Fin (k1_t121_loop v2220 v2222).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off1699 (v2220 : BitVec 32) (v2222 : BitVec 32) (k1_t121 : Fin (k1_t121_loop v2220 v2222).trips) (k1_t125 : Fin (k1_t125_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t125
  let v3026 : BitVec 32 := Scalar.addi v3015 arg46
  let v3027 : Index := Scalar.indexCast v3026
  let c0_1446 : Index := 0#32
  ![v3027.toNat, 0]
def k1_off1700 (v2220 : BitVec 32) (v2222 : BitVec 32) (k1_t121 : Fin (k1_t121_loop v2220 v2222).trips) (k1_t125 : Fin (k1_t125_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t125
  let v3026 : BitVec 32 := Scalar.addi v3015 arg46
  let v3032 : Index := Scalar.indexCast v3026
  let c16_1447 : Index := 16#32
  ![v3032.toNat, 16]
def k1_off1701 (v2220 : BitVec 32) (v2222 : BitVec 32) (k1_t121 : Fin (k1_t121_loop v2220 v2222).trips) (k1_t125 : Fin (k1_t125_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t125
  let v3026 : BitVec 32 := Scalar.addi v3015 arg46
  let v3037 : Index := Scalar.indexCast v3026
  let c32_1448 : Index := 32#32
  ![v3037.toNat, 32]
def k1_off1702 (v2220 : BitVec 32) (v2222 : BitVec 32) (k1_t121 : Fin (k1_t121_loop v2220 v2222).trips) (k1_t125 : Fin (k1_t125_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t125
  let v3026 : BitVec 32 := Scalar.addi v3015 arg46
  let v3042 : Index := Scalar.indexCast v3026
  let c48_1449 : Index := 48#32
  ![v3042.toNat, 48]
def k1_off1703 (v2220 : BitVec 32) (v2222 : BitVec 32) (k1_t121 : Fin (k1_t121_loop v2220 v2222).trips) (k1_t125 : Fin (k1_t125_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t125
  let v3026 : BitVec 32 := Scalar.addi v3015 arg46
  let v3047 : Index := Scalar.indexCast v3026
  let c64_1450 : Index := 64#32
  ![v3047.toNat, 64]
def k1_off1704 (v2220 : BitVec 32) (v2222 : BitVec 32) (k1_t121 : Fin (k1_t121_loop v2220 v2222).trips) (k1_t125 : Fin (k1_t125_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t125
  let v3026 : BitVec 32 := Scalar.addi v3015 arg46
  let v3052 : Index := Scalar.indexCast v3026
  let c80_1451 : Index := 80#32
  ![v3052.toNat, 80]
def k1_off1705 (v2220 : BitVec 32) (v2222 : BitVec 32) (k1_t121 : Fin (k1_t121_loop v2220 v2222).trips) (k1_t125 : Fin (k1_t125_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t125
  let v3026 : BitVec 32 := Scalar.addi v3015 arg46
  let v3057 : Index := Scalar.indexCast v3026
  let c96_1452 : Index := 96#32
  ![v3057.toNat, 96]
def k1_off1706 (v2220 : BitVec 32) (v2222 : BitVec 32) (k1_t121 : Fin (k1_t121_loop v2220 v2222).trips) (k1_t125 : Fin (k1_t125_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t125
  let v3026 : BitVec 32 := Scalar.addi v3015 arg46
  let v3062 : Index := Scalar.indexCast v3026
  let c112_1453 : Index := 112#32
  ![v3062.toNat, 112]
def k1_off1707 (v2220 : BitVec 32) (v2222 : BitVec 32) (k1_t121 : Fin (k1_t121_loop v2220 v2222).trips) (k1_t125 : Fin (k1_t125_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t125
  let v3026 : BitVec 32 := Scalar.addi v3015 arg46
  let v3067 : Index := Scalar.indexCast v3026
  let c128_1454 : Index := 128#32
  ![v3067.toNat, 128]
def k1_off1708 (v2220 : BitVec 32) (v2222 : BitVec 32) (k1_t121 : Fin (k1_t121_loop v2220 v2222).trips) (k1_t125 : Fin (k1_t125_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t125
  let v3026 : BitVec 32 := Scalar.addi v3015 arg46
  let v3072 : Index := Scalar.indexCast v3026
  let c144_1455 : Index := 144#32
  ![v3072.toNat, 144]
def k1_off1709 (v2220 : BitVec 32) (v2222 : BitVec 32) (k1_t121 : Fin (k1_t121_loop v2220 v2222).trips) (k1_t125 : Fin (k1_t125_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t125
  let v3026 : BitVec 32 := Scalar.addi v3015 arg46
  let v3077 : Index := Scalar.indexCast v3026
  let c160_1456 : Index := 160#32
  ![v3077.toNat, 160]
def k1_off1710 (v2220 : BitVec 32) (v2222 : BitVec 32) (k1_t121 : Fin (k1_t121_loop v2220 v2222).trips) (k1_t125 : Fin (k1_t125_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t125
  let v3026 : BitVec 32 := Scalar.addi v3015 arg46
  let v3082 : Index := Scalar.indexCast v3026
  let c176_1457 : Index := 176#32
  ![v3082.toNat, 176]
def k1_off1711 (v2220 : BitVec 32) (v2222 : BitVec 32) (k1_t121 : Fin (k1_t121_loop v2220 v2222).trips) (k1_t125 : Fin (k1_t125_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t125
  let v3026 : BitVec 32 := Scalar.addi v3015 arg46
  let v3087 : Index := Scalar.indexCast v3026
  let c192_1458 : Index := 192#32
  ![v3087.toNat, 192]
def k1_off1712 (v2220 : BitVec 32) (v2222 : BitVec 32) (k1_t121 : Fin (k1_t121_loop v2220 v2222).trips) (k1_t125 : Fin (k1_t125_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t125
  let v3026 : BitVec 32 := Scalar.addi v3015 arg46
  let v3092 : Index := Scalar.indexCast v3026
  let c208_1459 : Index := 208#32
  ![v3092.toNat, 208]
def k1_off1713 (v2220 : BitVec 32) (v2222 : BitVec 32) (k1_t121 : Fin (k1_t121_loop v2220 v2222).trips) (k1_t125 : Fin (k1_t125_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t125
  let v3026 : BitVec 32 := Scalar.addi v3015 arg46
  let v3097 : Index := Scalar.indexCast v3026
  let c224_1460 : Index := 224#32
  ![v3097.toNat, 224]
def k1_off1714 (v2220 : BitVec 32) (v2222 : BitVec 32) (k1_t121 : Fin (k1_t121_loop v2220 v2222).trips) (k1_t125 : Fin (k1_t125_loop v2220 v2222 k1_t121).trips) : Fin 2 → Nat :=
  let c2_i32_1426 : BitVec 32 := 2#32
  let c0_i32_1075 : BitVec 32 := 0#32
  let c1_i32_1077 : BitVec 32 := 1#32
  let arg13 : BitVec 32 := Scf.iv c0_i32_1075 c1_i32_1077 k1_t121
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t125
  let v3026 : BitVec 32 := Scalar.addi v3015 arg46
  let v3102 : Index := Scalar.indexCast v3026
  let c240_1461 : Index := 240#32
  ![v3102.toNat, 240]
@[reducible] def k1_t126_loop (v2220 : BitVec 32) (v2222 : BitVec 32) : Scf.Loop 32 :=
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let v2267 : BitVec 32 := Scalar.addi c0_i32_1075 v2266
  let c1_i32_1078 : BitVec 32 := 1#32
  ⟨v2270, v2267, c1_i32_1078⟩
def k1_off1715 (i : grid1.Coords) (v2220 : BitVec 32) (v2222 : BitVec 32) (k1_t126 : Fin (k1_t126_loop v2220 v2222).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1446 : BitVec 32 := 64#32
  let v3026 : BitVec 32 := Scalar.muli v2949 c64_i32_1446
  let v3027 : BitVec 32 := Scalar.addi v2220 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond114 (v2220 : BitVec 32) (v2222 : BitVec 32) (k1_t126 : Fin (k1_t126_loop v2220 v2222).trips) : BitVec 1 :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let v2950 : BitVec 1 := Scalar.cmpi .slt v2949 v2244
  let v2951 : BitVec 32 := Scalar.extui v2950
  let c0_i32_1409 : BitVec 32 := 0#32
  let v2952 : BitVec 1 := Scalar.cmpi .ne v2951 c0_i32_1409
  v2952

def k1_off1716 (i : grid1.Coords) (v2220 : BitVec 32) (v2222 : BitVec 32) (k1_t126 : Fin (k1_t126_loop v2220 v2222).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v2220 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond115 (v2220 : BitVec 32) (v2222 : BitVec 32) (k1_t126 : Fin (k1_t126_loop v2220 v2222).trips) : BitVec 1 :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c1_i32_1456 : BitVec 32 := 1#32
  let v3049 : BitVec 32 := Scalar.addi v2949 c1_i32_1456
  let v3050 : BitVec 1 := Scalar.cmpi .slt v3049 v2244
  let v3051 : BitVec 32 := Scalar.extui v3050
  let c0_i32_1457 : BitVec 32 := 0#32
  let v3052 : BitVec 1 := Scalar.cmpi .ne v3051 c0_i32_1457
  v3052

@[reducible] def k1_t127_loop (v2220 : BitVec 32) (v2222 : BitVec 32) (k1_t126 : Fin (k1_t126_loop v2220 v2222).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off1717 (v2220 : BitVec 32) (v2222 : BitVec 32) (k1_t126 : Fin (k1_t126_loop v2220 v2222).trips) (k1_t127 : Fin (k1_t127_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t127
  let v3026 : BitVec 32 := Scalar.addi v2976 arg46
  let v3027 : Index := Scalar.indexCast v3026
  let c0_1446 : Index := 0#32
  ![v3027.toNat, 0]
def k1_off1718 (v2220 : BitVec 32) (v2222 : BitVec 32) (k1_t126 : Fin (k1_t126_loop v2220 v2222).trips) (k1_t127 : Fin (k1_t127_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t127
  let v3026 : BitVec 32 := Scalar.addi v2976 arg46
  let v3032 : Index := Scalar.indexCast v3026
  let c16_1447 : Index := 16#32
  ![v3032.toNat, 16]
def k1_off1719 (v2220 : BitVec 32) (v2222 : BitVec 32) (k1_t126 : Fin (k1_t126_loop v2220 v2222).trips) (k1_t127 : Fin (k1_t127_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t127
  let v3026 : BitVec 32 := Scalar.addi v2976 arg46
  let v3037 : Index := Scalar.indexCast v3026
  let c32_1448 : Index := 32#32
  ![v3037.toNat, 32]
def k1_off1720 (v2220 : BitVec 32) (v2222 : BitVec 32) (k1_t126 : Fin (k1_t126_loop v2220 v2222).trips) (k1_t127 : Fin (k1_t127_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t127
  let v3026 : BitVec 32 := Scalar.addi v2976 arg46
  let v3042 : Index := Scalar.indexCast v3026
  let c48_1449 : Index := 48#32
  ![v3042.toNat, 48]
def k1_off1721 (v2220 : BitVec 32) (v2222 : BitVec 32) (k1_t126 : Fin (k1_t126_loop v2220 v2222).trips) (k1_t127 : Fin (k1_t127_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t127
  let v3026 : BitVec 32 := Scalar.addi v2976 arg46
  let v3047 : Index := Scalar.indexCast v3026
  let c64_1450 : Index := 64#32
  ![v3047.toNat, 64]
def k1_off1722 (v2220 : BitVec 32) (v2222 : BitVec 32) (k1_t126 : Fin (k1_t126_loop v2220 v2222).trips) (k1_t127 : Fin (k1_t127_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t127
  let v3026 : BitVec 32 := Scalar.addi v2976 arg46
  let v3052 : Index := Scalar.indexCast v3026
  let c80_1451 : Index := 80#32
  ![v3052.toNat, 80]
def k1_off1723 (v2220 : BitVec 32) (v2222 : BitVec 32) (k1_t126 : Fin (k1_t126_loop v2220 v2222).trips) (k1_t127 : Fin (k1_t127_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t127
  let v3026 : BitVec 32 := Scalar.addi v2976 arg46
  let v3057 : Index := Scalar.indexCast v3026
  let c96_1452 : Index := 96#32
  ![v3057.toNat, 96]
def k1_off1724 (v2220 : BitVec 32) (v2222 : BitVec 32) (k1_t126 : Fin (k1_t126_loop v2220 v2222).trips) (k1_t127 : Fin (k1_t127_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t127
  let v3026 : BitVec 32 := Scalar.addi v2976 arg46
  let v3062 : Index := Scalar.indexCast v3026
  let c112_1453 : Index := 112#32
  ![v3062.toNat, 112]
def k1_off1725 (v2220 : BitVec 32) (v2222 : BitVec 32) (k1_t126 : Fin (k1_t126_loop v2220 v2222).trips) (k1_t127 : Fin (k1_t127_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t127
  let v3026 : BitVec 32 := Scalar.addi v2976 arg46
  let v3067 : Index := Scalar.indexCast v3026
  let c128_1454 : Index := 128#32
  ![v3067.toNat, 128]
def k1_off1726 (v2220 : BitVec 32) (v2222 : BitVec 32) (k1_t126 : Fin (k1_t126_loop v2220 v2222).trips) (k1_t127 : Fin (k1_t127_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t127
  let v3026 : BitVec 32 := Scalar.addi v2976 arg46
  let v3072 : Index := Scalar.indexCast v3026
  let c144_1455 : Index := 144#32
  ![v3072.toNat, 144]
def k1_off1727 (v2220 : BitVec 32) (v2222 : BitVec 32) (k1_t126 : Fin (k1_t126_loop v2220 v2222).trips) (k1_t127 : Fin (k1_t127_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t127
  let v3026 : BitVec 32 := Scalar.addi v2976 arg46
  let v3077 : Index := Scalar.indexCast v3026
  let c160_1456 : Index := 160#32
  ![v3077.toNat, 160]
def k1_off1728 (v2220 : BitVec 32) (v2222 : BitVec 32) (k1_t126 : Fin (k1_t126_loop v2220 v2222).trips) (k1_t127 : Fin (k1_t127_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t127
  let v3026 : BitVec 32 := Scalar.addi v2976 arg46
  let v3082 : Index := Scalar.indexCast v3026
  let c176_1457 : Index := 176#32
  ![v3082.toNat, 176]
def k1_off1729 (v2220 : BitVec 32) (v2222 : BitVec 32) (k1_t126 : Fin (k1_t126_loop v2220 v2222).trips) (k1_t127 : Fin (k1_t127_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t127
  let v3026 : BitVec 32 := Scalar.addi v2976 arg46
  let v3087 : Index := Scalar.indexCast v3026
  let c192_1458 : Index := 192#32
  ![v3087.toNat, 192]
def k1_off1730 (v2220 : BitVec 32) (v2222 : BitVec 32) (k1_t126 : Fin (k1_t126_loop v2220 v2222).trips) (k1_t127 : Fin (k1_t127_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t127
  let v3026 : BitVec 32 := Scalar.addi v2976 arg46
  let v3092 : Index := Scalar.indexCast v3026
  let c208_1459 : Index := 208#32
  ![v3092.toNat, 208]
def k1_off1731 (v2220 : BitVec 32) (v2222 : BitVec 32) (k1_t126 : Fin (k1_t126_loop v2220 v2222).trips) (k1_t127 : Fin (k1_t127_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t127
  let v3026 : BitVec 32 := Scalar.addi v2976 arg46
  let v3097 : Index := Scalar.indexCast v3026
  let c224_1460 : Index := 224#32
  ![v3097.toNat, 224]
def k1_off1732 (v2220 : BitVec 32) (v2222 : BitVec 32) (k1_t126 : Fin (k1_t126_loop v2220 v2222).trips) (k1_t127 : Fin (k1_t127_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t127
  let v3026 : BitVec 32 := Scalar.addi v2976 arg46
  let v3102 : Index := Scalar.indexCast v3026
  let c240_1461 : Index := 240#32
  ![v3102.toNat, 240]
@[reducible] def k1_t128_loop (v2220 : BitVec 32) (v2222 : BitVec 32) (k1_t126 : Fin (k1_t126_loop v2220 v2222).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off1733 (v2220 : BitVec 32) (v2222 : BitVec 32) (k1_t126 : Fin (k1_t126_loop v2220 v2222).trips) (k1_t128 : Fin (k1_t128_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t128
  let v3026 : BitVec 32 := Scalar.addi v2976 arg46
  let v3027 : Index := Scalar.indexCast v3026
  let c0_1446 : Index := 0#32
  ![v3027.toNat, 0]
def k1_off1734 (v2220 : BitVec 32) (v2222 : BitVec 32) (k1_t126 : Fin (k1_t126_loop v2220 v2222).trips) (k1_t128 : Fin (k1_t128_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t128
  let v3026 : BitVec 32 := Scalar.addi v2976 arg46
  let v3032 : Index := Scalar.indexCast v3026
  let c16_1447 : Index := 16#32
  ![v3032.toNat, 16]
def k1_off1735 (v2220 : BitVec 32) (v2222 : BitVec 32) (k1_t126 : Fin (k1_t126_loop v2220 v2222).trips) (k1_t128 : Fin (k1_t128_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t128
  let v3026 : BitVec 32 := Scalar.addi v2976 arg46
  let v3037 : Index := Scalar.indexCast v3026
  let c32_1448 : Index := 32#32
  ![v3037.toNat, 32]
def k1_off1736 (v2220 : BitVec 32) (v2222 : BitVec 32) (k1_t126 : Fin (k1_t126_loop v2220 v2222).trips) (k1_t128 : Fin (k1_t128_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t128
  let v3026 : BitVec 32 := Scalar.addi v2976 arg46
  let v3042 : Index := Scalar.indexCast v3026
  let c48_1449 : Index := 48#32
  ![v3042.toNat, 48]
def k1_off1737 (v2220 : BitVec 32) (v2222 : BitVec 32) (k1_t126 : Fin (k1_t126_loop v2220 v2222).trips) (k1_t128 : Fin (k1_t128_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t128
  let v3026 : BitVec 32 := Scalar.addi v2976 arg46
  let v3047 : Index := Scalar.indexCast v3026
  let c64_1450 : Index := 64#32
  ![v3047.toNat, 64]
def k1_off1738 (v2220 : BitVec 32) (v2222 : BitVec 32) (k1_t126 : Fin (k1_t126_loop v2220 v2222).trips) (k1_t128 : Fin (k1_t128_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t128
  let v3026 : BitVec 32 := Scalar.addi v2976 arg46
  let v3052 : Index := Scalar.indexCast v3026
  let c80_1451 : Index := 80#32
  ![v3052.toNat, 80]
def k1_off1739 (v2220 : BitVec 32) (v2222 : BitVec 32) (k1_t126 : Fin (k1_t126_loop v2220 v2222).trips) (k1_t128 : Fin (k1_t128_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t128
  let v3026 : BitVec 32 := Scalar.addi v2976 arg46
  let v3057 : Index := Scalar.indexCast v3026
  let c96_1452 : Index := 96#32
  ![v3057.toNat, 96]
def k1_off1740 (v2220 : BitVec 32) (v2222 : BitVec 32) (k1_t126 : Fin (k1_t126_loop v2220 v2222).trips) (k1_t128 : Fin (k1_t128_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t128
  let v3026 : BitVec 32 := Scalar.addi v2976 arg46
  let v3062 : Index := Scalar.indexCast v3026
  let c112_1453 : Index := 112#32
  ![v3062.toNat, 112]
def k1_off1741 (v2220 : BitVec 32) (v2222 : BitVec 32) (k1_t126 : Fin (k1_t126_loop v2220 v2222).trips) (k1_t128 : Fin (k1_t128_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t128
  let v3026 : BitVec 32 := Scalar.addi v2976 arg46
  let v3067 : Index := Scalar.indexCast v3026
  let c128_1454 : Index := 128#32
  ![v3067.toNat, 128]
def k1_off1742 (v2220 : BitVec 32) (v2222 : BitVec 32) (k1_t126 : Fin (k1_t126_loop v2220 v2222).trips) (k1_t128 : Fin (k1_t128_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t128
  let v3026 : BitVec 32 := Scalar.addi v2976 arg46
  let v3072 : Index := Scalar.indexCast v3026
  let c144_1455 : Index := 144#32
  ![v3072.toNat, 144]
def k1_off1743 (v2220 : BitVec 32) (v2222 : BitVec 32) (k1_t126 : Fin (k1_t126_loop v2220 v2222).trips) (k1_t128 : Fin (k1_t128_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t128
  let v3026 : BitVec 32 := Scalar.addi v2976 arg46
  let v3077 : Index := Scalar.indexCast v3026
  let c160_1456 : Index := 160#32
  ![v3077.toNat, 160]
def k1_off1744 (v2220 : BitVec 32) (v2222 : BitVec 32) (k1_t126 : Fin (k1_t126_loop v2220 v2222).trips) (k1_t128 : Fin (k1_t128_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t128
  let v3026 : BitVec 32 := Scalar.addi v2976 arg46
  let v3082 : Index := Scalar.indexCast v3026
  let c176_1457 : Index := 176#32
  ![v3082.toNat, 176]
def k1_off1745 (v2220 : BitVec 32) (v2222 : BitVec 32) (k1_t126 : Fin (k1_t126_loop v2220 v2222).trips) (k1_t128 : Fin (k1_t128_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t128
  let v3026 : BitVec 32 := Scalar.addi v2976 arg46
  let v3087 : Index := Scalar.indexCast v3026
  let c192_1458 : Index := 192#32
  ![v3087.toNat, 192]
def k1_off1746 (v2220 : BitVec 32) (v2222 : BitVec 32) (k1_t126 : Fin (k1_t126_loop v2220 v2222).trips) (k1_t128 : Fin (k1_t128_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t128
  let v3026 : BitVec 32 := Scalar.addi v2976 arg46
  let v3092 : Index := Scalar.indexCast v3026
  let c208_1459 : Index := 208#32
  ![v3092.toNat, 208]
def k1_off1747 (v2220 : BitVec 32) (v2222 : BitVec 32) (k1_t126 : Fin (k1_t126_loop v2220 v2222).trips) (k1_t128 : Fin (k1_t128_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t128
  let v3026 : BitVec 32 := Scalar.addi v2976 arg46
  let v3097 : Index := Scalar.indexCast v3026
  let c224_1460 : Index := 224#32
  ![v3097.toNat, 224]
def k1_off1748 (v2220 : BitVec 32) (v2222 : BitVec 32) (k1_t126 : Fin (k1_t126_loop v2220 v2222).trips) (k1_t128 : Fin (k1_t128_loop v2220 v2222 k1_t126).trips) : Fin 2 → Nat :=
  let c2_i32_1408 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2949 : BitVec 32 := Scalar.muli c2_i32_1408 arg13
  let c64_i32_1410 : BitVec 32 := 64#32
  let v2953 : BitVec 32 := Scalar.muli v2949 c64_i32_1410
  let v2954 : BitVec 32 := Scalar.addi v2220 v2953
  let c64_i32_1411 : BitVec 32 := 64#32
  let v2955 : BitVec 32 := Scalar.muli v2949 c64_i32_1411
  let v2956 : BitVec 32 := Scalar.addi v2220 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2222 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t128
  let v3026 : BitVec 32 := Scalar.addi v2976 arg46
  let v3102 : Index := Scalar.indexCast v3026
  let c240_1461 : Index := 240#32
  ![v3102.toNat, 240]
def k1_off1749 (i : grid1.Coords) (v2220 : BitVec 32) (v2222 : BitVec 32) (k1_t126 : Fin (k1_t126_loop v2220 v2222).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v2220 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond116 (v2220 : BitVec 32) (v2222 : BitVec 32) (k1_t126 : Fin (k1_t126_loop v2220 v2222).trips) : BitVec 1 :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let v2989 : BitVec 1 := Scalar.cmpi .slt v2988 v2244
  let v2990 : BitVec 32 := Scalar.extui v2989
  let c0_i32_1428 : BitVec 32 := 0#32
  let v2991 : BitVec 1 := Scalar.cmpi .ne v2990 c0_i32_1428
  v2991

def k1_off1750 (i : grid1.Coords) (v2220 : BitVec 32) (v2222 : BitVec 32) (k1_t126 : Fin (k1_t126_loop v2220 v2222).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v2220 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond117 (v2220 : BitVec 32) (v2222 : BitVec 32) (k1_t126 : Fin (k1_t126_loop v2220 v2222).trips) : BitVec 1 :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v3050 : BitVec 1 := Scalar.cmpi .slt v3049 v2244
  let v3051 : BitVec 32 := Scalar.extui v3050
  let c0_i32_1457 : BitVec 32 := 0#32
  let v3052 : BitVec 1 := Scalar.cmpi .ne v3051 c0_i32_1457
  v3052

@[reducible] def k1_t129_loop (v2220 : BitVec 32) (v2222 : BitVec 32) (k1_t126 : Fin (k1_t126_loop v2220 v2222).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off1751 (v2220 : BitVec 32) (v2222 : BitVec 32) (k1_t126 : Fin (k1_t126_loop v2220 v2222).trips) (k1_t129 : Fin (k1_t129_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t129
  let v3026 : BitVec 32 := Scalar.addi v3015 arg46
  let v3027 : Index := Scalar.indexCast v3026
  let c0_1446 : Index := 0#32
  ![v3027.toNat, 0]
def k1_off1752 (v2220 : BitVec 32) (v2222 : BitVec 32) (k1_t126 : Fin (k1_t126_loop v2220 v2222).trips) (k1_t129 : Fin (k1_t129_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t129
  let v3026 : BitVec 32 := Scalar.addi v3015 arg46
  let v3032 : Index := Scalar.indexCast v3026
  let c16_1447 : Index := 16#32
  ![v3032.toNat, 16]
def k1_off1753 (v2220 : BitVec 32) (v2222 : BitVec 32) (k1_t126 : Fin (k1_t126_loop v2220 v2222).trips) (k1_t129 : Fin (k1_t129_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t129
  let v3026 : BitVec 32 := Scalar.addi v3015 arg46
  let v3037 : Index := Scalar.indexCast v3026
  let c32_1448 : Index := 32#32
  ![v3037.toNat, 32]
def k1_off1754 (v2220 : BitVec 32) (v2222 : BitVec 32) (k1_t126 : Fin (k1_t126_loop v2220 v2222).trips) (k1_t129 : Fin (k1_t129_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t129
  let v3026 : BitVec 32 := Scalar.addi v3015 arg46
  let v3042 : Index := Scalar.indexCast v3026
  let c48_1449 : Index := 48#32
  ![v3042.toNat, 48]
def k1_off1755 (v2220 : BitVec 32) (v2222 : BitVec 32) (k1_t126 : Fin (k1_t126_loop v2220 v2222).trips) (k1_t129 : Fin (k1_t129_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t129
  let v3026 : BitVec 32 := Scalar.addi v3015 arg46
  let v3047 : Index := Scalar.indexCast v3026
  let c64_1450 : Index := 64#32
  ![v3047.toNat, 64]
def k1_off1756 (v2220 : BitVec 32) (v2222 : BitVec 32) (k1_t126 : Fin (k1_t126_loop v2220 v2222).trips) (k1_t129 : Fin (k1_t129_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t129
  let v3026 : BitVec 32 := Scalar.addi v3015 arg46
  let v3052 : Index := Scalar.indexCast v3026
  let c80_1451 : Index := 80#32
  ![v3052.toNat, 80]
def k1_off1757 (v2220 : BitVec 32) (v2222 : BitVec 32) (k1_t126 : Fin (k1_t126_loop v2220 v2222).trips) (k1_t129 : Fin (k1_t129_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t129
  let v3026 : BitVec 32 := Scalar.addi v3015 arg46
  let v3057 : Index := Scalar.indexCast v3026
  let c96_1452 : Index := 96#32
  ![v3057.toNat, 96]
def k1_off1758 (v2220 : BitVec 32) (v2222 : BitVec 32) (k1_t126 : Fin (k1_t126_loop v2220 v2222).trips) (k1_t129 : Fin (k1_t129_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t129
  let v3026 : BitVec 32 := Scalar.addi v3015 arg46
  let v3062 : Index := Scalar.indexCast v3026
  let c112_1453 : Index := 112#32
  ![v3062.toNat, 112]
def k1_off1759 (v2220 : BitVec 32) (v2222 : BitVec 32) (k1_t126 : Fin (k1_t126_loop v2220 v2222).trips) (k1_t129 : Fin (k1_t129_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t129
  let v3026 : BitVec 32 := Scalar.addi v3015 arg46
  let v3067 : Index := Scalar.indexCast v3026
  let c128_1454 : Index := 128#32
  ![v3067.toNat, 128]
def k1_off1760 (v2220 : BitVec 32) (v2222 : BitVec 32) (k1_t126 : Fin (k1_t126_loop v2220 v2222).trips) (k1_t129 : Fin (k1_t129_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t129
  let v3026 : BitVec 32 := Scalar.addi v3015 arg46
  let v3072 : Index := Scalar.indexCast v3026
  let c144_1455 : Index := 144#32
  ![v3072.toNat, 144]
def k1_off1761 (v2220 : BitVec 32) (v2222 : BitVec 32) (k1_t126 : Fin (k1_t126_loop v2220 v2222).trips) (k1_t129 : Fin (k1_t129_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t129
  let v3026 : BitVec 32 := Scalar.addi v3015 arg46
  let v3077 : Index := Scalar.indexCast v3026
  let c160_1456 : Index := 160#32
  ![v3077.toNat, 160]
def k1_off1762 (v2220 : BitVec 32) (v2222 : BitVec 32) (k1_t126 : Fin (k1_t126_loop v2220 v2222).trips) (k1_t129 : Fin (k1_t129_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t129
  let v3026 : BitVec 32 := Scalar.addi v3015 arg46
  let v3082 : Index := Scalar.indexCast v3026
  let c176_1457 : Index := 176#32
  ![v3082.toNat, 176]
def k1_off1763 (v2220 : BitVec 32) (v2222 : BitVec 32) (k1_t126 : Fin (k1_t126_loop v2220 v2222).trips) (k1_t129 : Fin (k1_t129_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t129
  let v3026 : BitVec 32 := Scalar.addi v3015 arg46
  let v3087 : Index := Scalar.indexCast v3026
  let c192_1458 : Index := 192#32
  ![v3087.toNat, 192]
def k1_off1764 (v2220 : BitVec 32) (v2222 : BitVec 32) (k1_t126 : Fin (k1_t126_loop v2220 v2222).trips) (k1_t129 : Fin (k1_t129_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t129
  let v3026 : BitVec 32 := Scalar.addi v3015 arg46
  let v3092 : Index := Scalar.indexCast v3026
  let c208_1459 : Index := 208#32
  ![v3092.toNat, 208]
def k1_off1765 (v2220 : BitVec 32) (v2222 : BitVec 32) (k1_t126 : Fin (k1_t126_loop v2220 v2222).trips) (k1_t129 : Fin (k1_t129_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t129
  let v3026 : BitVec 32 := Scalar.addi v3015 arg46
  let v3097 : Index := Scalar.indexCast v3026
  let c224_1460 : Index := 224#32
  ![v3097.toNat, 224]
def k1_off1766 (v2220 : BitVec 32) (v2222 : BitVec 32) (k1_t126 : Fin (k1_t126_loop v2220 v2222).trips) (k1_t129 : Fin (k1_t129_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t129
  let v3026 : BitVec 32 := Scalar.addi v3015 arg46
  let v3102 : Index := Scalar.indexCast v3026
  let c240_1461 : Index := 240#32
  ![v3102.toNat, 240]
@[reducible] def k1_t130_loop (v2220 : BitVec 32) (v2222 : BitVec 32) (k1_t126 : Fin (k1_t126_loop v2220 v2222).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off1767 (v2220 : BitVec 32) (v2222 : BitVec 32) (k1_t126 : Fin (k1_t126_loop v2220 v2222).trips) (k1_t130 : Fin (k1_t130_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t130
  let v3026 : BitVec 32 := Scalar.addi v3015 arg46
  let v3027 : Index := Scalar.indexCast v3026
  let c0_1446 : Index := 0#32
  ![v3027.toNat, 0]
def k1_off1768 (v2220 : BitVec 32) (v2222 : BitVec 32) (k1_t126 : Fin (k1_t126_loop v2220 v2222).trips) (k1_t130 : Fin (k1_t130_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t130
  let v3026 : BitVec 32 := Scalar.addi v3015 arg46
  let v3032 : Index := Scalar.indexCast v3026
  let c16_1447 : Index := 16#32
  ![v3032.toNat, 16]
def k1_off1769 (v2220 : BitVec 32) (v2222 : BitVec 32) (k1_t126 : Fin (k1_t126_loop v2220 v2222).trips) (k1_t130 : Fin (k1_t130_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t130
  let v3026 : BitVec 32 := Scalar.addi v3015 arg46
  let v3037 : Index := Scalar.indexCast v3026
  let c32_1448 : Index := 32#32
  ![v3037.toNat, 32]
def k1_off1770 (v2220 : BitVec 32) (v2222 : BitVec 32) (k1_t126 : Fin (k1_t126_loop v2220 v2222).trips) (k1_t130 : Fin (k1_t130_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t130
  let v3026 : BitVec 32 := Scalar.addi v3015 arg46
  let v3042 : Index := Scalar.indexCast v3026
  let c48_1449 : Index := 48#32
  ![v3042.toNat, 48]
def k1_off1771 (v2220 : BitVec 32) (v2222 : BitVec 32) (k1_t126 : Fin (k1_t126_loop v2220 v2222).trips) (k1_t130 : Fin (k1_t130_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t130
  let v3026 : BitVec 32 := Scalar.addi v3015 arg46
  let v3047 : Index := Scalar.indexCast v3026
  let c64_1450 : Index := 64#32
  ![v3047.toNat, 64]
def k1_off1772 (v2220 : BitVec 32) (v2222 : BitVec 32) (k1_t126 : Fin (k1_t126_loop v2220 v2222).trips) (k1_t130 : Fin (k1_t130_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t130
  let v3026 : BitVec 32 := Scalar.addi v3015 arg46
  let v3052 : Index := Scalar.indexCast v3026
  let c80_1451 : Index := 80#32
  ![v3052.toNat, 80]
def k1_off1773 (v2220 : BitVec 32) (v2222 : BitVec 32) (k1_t126 : Fin (k1_t126_loop v2220 v2222).trips) (k1_t130 : Fin (k1_t130_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t130
  let v3026 : BitVec 32 := Scalar.addi v3015 arg46
  let v3057 : Index := Scalar.indexCast v3026
  let c96_1452 : Index := 96#32
  ![v3057.toNat, 96]
def k1_off1774 (v2220 : BitVec 32) (v2222 : BitVec 32) (k1_t126 : Fin (k1_t126_loop v2220 v2222).trips) (k1_t130 : Fin (k1_t130_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t130
  let v3026 : BitVec 32 := Scalar.addi v3015 arg46
  let v3062 : Index := Scalar.indexCast v3026
  let c112_1453 : Index := 112#32
  ![v3062.toNat, 112]
def k1_off1775 (v2220 : BitVec 32) (v2222 : BitVec 32) (k1_t126 : Fin (k1_t126_loop v2220 v2222).trips) (k1_t130 : Fin (k1_t130_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t130
  let v3026 : BitVec 32 := Scalar.addi v3015 arg46
  let v3067 : Index := Scalar.indexCast v3026
  let c128_1454 : Index := 128#32
  ![v3067.toNat, 128]
def k1_off1776 (v2220 : BitVec 32) (v2222 : BitVec 32) (k1_t126 : Fin (k1_t126_loop v2220 v2222).trips) (k1_t130 : Fin (k1_t130_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t130
  let v3026 : BitVec 32 := Scalar.addi v3015 arg46
  let v3072 : Index := Scalar.indexCast v3026
  let c144_1455 : Index := 144#32
  ![v3072.toNat, 144]
def k1_off1777 (v2220 : BitVec 32) (v2222 : BitVec 32) (k1_t126 : Fin (k1_t126_loop v2220 v2222).trips) (k1_t130 : Fin (k1_t130_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t130
  let v3026 : BitVec 32 := Scalar.addi v3015 arg46
  let v3077 : Index := Scalar.indexCast v3026
  let c160_1456 : Index := 160#32
  ![v3077.toNat, 160]
def k1_off1778 (v2220 : BitVec 32) (v2222 : BitVec 32) (k1_t126 : Fin (k1_t126_loop v2220 v2222).trips) (k1_t130 : Fin (k1_t130_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t130
  let v3026 : BitVec 32 := Scalar.addi v3015 arg46
  let v3082 : Index := Scalar.indexCast v3026
  let c176_1457 : Index := 176#32
  ![v3082.toNat, 176]
def k1_off1779 (v2220 : BitVec 32) (v2222 : BitVec 32) (k1_t126 : Fin (k1_t126_loop v2220 v2222).trips) (k1_t130 : Fin (k1_t130_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t130
  let v3026 : BitVec 32 := Scalar.addi v3015 arg46
  let v3087 : Index := Scalar.indexCast v3026
  let c192_1458 : Index := 192#32
  ![v3087.toNat, 192]
def k1_off1780 (v2220 : BitVec 32) (v2222 : BitVec 32) (k1_t126 : Fin (k1_t126_loop v2220 v2222).trips) (k1_t130 : Fin (k1_t130_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t130
  let v3026 : BitVec 32 := Scalar.addi v3015 arg46
  let v3092 : Index := Scalar.indexCast v3026
  let c208_1459 : Index := 208#32
  ![v3092.toNat, 208]
def k1_off1781 (v2220 : BitVec 32) (v2222 : BitVec 32) (k1_t126 : Fin (k1_t126_loop v2220 v2222).trips) (k1_t130 : Fin (k1_t130_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t130
  let v3026 : BitVec 32 := Scalar.addi v3015 arg46
  let v3097 : Index := Scalar.indexCast v3026
  let c224_1460 : Index := 224#32
  ![v3097.toNat, 224]
def k1_off1782 (v2220 : BitVec 32) (v2222 : BitVec 32) (k1_t126 : Fin (k1_t126_loop v2220 v2222).trips) (k1_t130 : Fin (k1_t130_loop v2220 v2222 k1_t126).trips) : Fin 2 → Nat :=
  let c2_i32_1426 : BitVec 32 := 2#32
  let c0_i32_1075 : BitVec 32 := 0#32
  let v2225 : BitVec 32 := Scalar.subi v2222 v2220
  let c64_i32_1056 : BitVec 32 := 64#32
  let v2226 : BitVec 32 := Scalar.addi v2225 c64_i32_1056
  let c1_i32_1057 : BitVec 32 := 1#32
  let v2227 : BitVec 32 := Scalar.subi v2226 c1_i32_1057
  let c0_i32_1059 : BitVec 32 := 0#32
  let v2229 : BitVec 1 := Scalar.cmpi .sgt v2227 c0_i32_1059
  let v2230 : BitVec 32 := Scalar.extui v2229
  let c0_i32_1060 : BitVec 32 := 0#32
  let v2231 : BitVec 1 := Scalar.cmpi .slt v2227 c0_i32_1060
  let v2232 : BitVec 32 := Scalar.extui v2231
  let v2233 : BitVec 32 := Scalar.subi v2230 v2232
  let c64_i32_1058 : BitVec 32 := 64#32
  let c0_i32_1061 : BitVec 32 := 0#32
  let v2234 : BitVec 1 := Scalar.cmpi .sgt c64_i32_1058 c0_i32_1061
  let v2235 : BitVec 32 := Scalar.extui v2234
  let c0_i32_1062 : BitVec 32 := 0#32
  let v2236 : BitVec 1 := Scalar.cmpi .slt c64_i32_1058 c0_i32_1062
  let v2237 : BitVec 32 := Scalar.extui v2236
  let v2238 : BitVec 32 := Scalar.subi v2235 v2237
  let v2239 : BitVec 1 := Scalar.cmpi .ne v2233 v2238
  let v2240 : BitVec 32 := Scalar.remsi v2227 c64_i32_1058
  let c0_i32_1063 : BitVec 32 := 0#32
  let v2241 : BitVec 1 := Scalar.cmpi .ne v2240 c0_i32_1063
  let v2242 : BitVec 1 := Scalar.andi v2239 v2241
  let v2228 : BitVec 32 := Scalar.divsi v2227 c64_i32_1058
  let c1_i32_1064 : BitVec 32 := 1#32
  let v2243 : BitVec 32 := Scalar.subi v2228 c1_i32_1064
  let v2244 : BitVec 32 := Scalar.select v2242 v2243 v2228
  let c1_i32_1067 : BitVec 32 := 1#32
  let v2248 : BitVec 32 := Scalar.addi v2244 c1_i32_1067
  let c0_i32_1069 : BitVec 32 := 0#32
  let v2250 : BitVec 1 := Scalar.cmpi .sgt v2248 c0_i32_1069
  let v2251 : BitVec 32 := Scalar.extui v2250
  let c0_i32_1070 : BitVec 32 := 0#32
  let v2252 : BitVec 1 := Scalar.cmpi .slt v2248 c0_i32_1070
  let v2253 : BitVec 32 := Scalar.extui v2252
  let v2254 : BitVec 32 := Scalar.subi v2251 v2253
  let c2_i32_1068 : BitVec 32 := 2#32
  let c0_i32_1071 : BitVec 32 := 0#32
  let v2255 : BitVec 1 := Scalar.cmpi .sgt c2_i32_1068 c0_i32_1071
  let v2256 : BitVec 32 := Scalar.extui v2255
  let c0_i32_1072 : BitVec 32 := 0#32
  let v2257 : BitVec 1 := Scalar.cmpi .slt c2_i32_1068 c0_i32_1072
  let v2258 : BitVec 32 := Scalar.extui v2257
  let v2259 : BitVec 32 := Scalar.subi v2256 v2258
  let v2260 : BitVec 1 := Scalar.cmpi .ne v2254 v2259
  let v2261 : BitVec 32 := Scalar.remsi v2248 c2_i32_1068
  let c0_i32_1073 : BitVec 32 := 0#32
  let v2262 : BitVec 1 := Scalar.cmpi .ne v2261 c0_i32_1073
  let v2263 : BitVec 1 := Scalar.andi v2260 v2262
  let v2249 : BitVec 32 := Scalar.divsi v2248 c2_i32_1068
  let c1_i32_1074 : BitVec 32 := 1#32
  let v2264 : BitVec 32 := Scalar.subi v2249 c1_i32_1074
  let v2265 : BitVec 32 := Scalar.select v2263 v2264 v2249
  let v2266 : BitVec 32 := Scalar.subi v2265 c0_i32_1075
  let c1_i32_1076 : BitVec 32 := 1#32
  let v2268 : BitVec 32 := Scalar.divsi v2266 c1_i32_1076
  let v2269 : BitVec 32 := Scalar.muli v2268 c1_i32_1076
  let v2270 : BitVec 32 := Scalar.addi c0_i32_1075 v2269
  let c1_i32_1078 : BitVec 32 := 1#32
  let arg13 : BitVec 32 := Scf.iv v2270 c1_i32_1078 k1_t126
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2220 v2992
  let c64_i32_1430 : BitVec 32 := 64#32
  let v2994 : BitVec 32 := Scalar.muli v2988 c64_i32_1430
  let v2995 : BitVec 32 := Scalar.addi v2220 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2222 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t130
  let v3026 : BitVec 32 := Scalar.addi v3015 arg46
  let v3102 : Index := Scalar.indexCast v3026
  let c240_1461 : Index := 240#32
  ![v3102.toNat, 240]

def k1_chk13_0 (i : grid1.Coords) (v2220 : BitVec 32) (v2222 : BitVec 32) : Prop :=
  (∀ (k1_h109 : k1_cond109 v2220 v2222 = 1#1), ∀ a, (k1_off1646 i v2220) a + S72x256.size a ≤ S100000x512.size a) ∧
  ((k1_t121_loop v2220 v2222).OK) ∧
  (∀ k1_t121 : Fin (k1_t121_loop v2220 v2222).trips, ∀ (k1_h110 : k1_cond110 v2220 v2222 k1_t121 = 1#1), ∀ a, (k1_off1647 i v2220 v2222 k1_t121) a + S72x256.size a ≤ S100000x512.size a) ∧
  (∀ k1_t121 : Fin (k1_t121_loop v2220 v2222).trips, ∀ (k1_h110 : k1_cond110 v2220 v2222 k1_t121 = 1#1), ∀ (k1_h111 : k1_cond111 v2220 v2222 k1_t121 = 1#1), ∀ a, (k1_off1648 i v2220 v2222 k1_t121) a + S72x256.size a ≤ S100000x512.size a) ∧
  (∀ k1_t121 : Fin (k1_t121_loop v2220 v2222).trips, (k1_t122_loop v2220 v2222 k1_t121).OK) ∧
  (∀ (k1_t121 : Fin (k1_t121_loop v2220 v2222).trips) (k1_t122 : Fin (k1_t122_loop v2220 v2222 k1_t121).trips), ∀ a, (k1_off1649 v2220 v2222 k1_t121 k1_t122) a + S1x16.size a ≤ S72x256.size a) ∧
  (∀ (k1_t121 : Fin (k1_t121_loop v2220 v2222).trips) (k1_t122 : Fin (k1_t122_loop v2220 v2222 k1_t121).trips), ∀ a, (k1_off1650 v2220 v2222 k1_t121 k1_t122) a + S1x16.size a ≤ S72x256.size a) ∧
  (∀ (k1_t121 : Fin (k1_t121_loop v2220 v2222).trips) (k1_t122 : Fin (k1_t122_loop v2220 v2222 k1_t121).trips), ∀ a, (k1_off1651 v2220 v2222 k1_t121 k1_t122) a + S1x16.size a ≤ S72x256.size a) ∧
  (∀ (k1_t121 : Fin (k1_t121_loop v2220 v2222).trips) (k1_t122 : Fin (k1_t122_loop v2220 v2222 k1_t121).trips), ∀ a, (k1_off1652 v2220 v2222 k1_t121 k1_t122) a + S1x16.size a ≤ S72x256.size a) ∧
  (∀ (k1_t121 : Fin (k1_t121_loop v2220 v2222).trips) (k1_t122 : Fin (k1_t122_loop v2220 v2222 k1_t121).trips), ∀ a, (k1_off1653 v2220 v2222 k1_t121 k1_t122) a + S1x16.size a ≤ S72x256.size a) ∧
  (∀ (k1_t121 : Fin (k1_t121_loop v2220 v2222).trips) (k1_t122 : Fin (k1_t122_loop v2220 v2222 k1_t121).trips), ∀ a, (k1_off1654 v2220 v2222 k1_t121 k1_t122) a + S1x16.size a ≤ S72x256.size a) ∧
  (∀ (k1_t121 : Fin (k1_t121_loop v2220 v2222).trips) (k1_t122 : Fin (k1_t122_loop v2220 v2222 k1_t121).trips), ∀ a, (k1_off1655 v2220 v2222 k1_t121 k1_t122) a + S1x16.size a ≤ S72x256.size a) ∧
  (∀ (k1_t121 : Fin (k1_t121_loop v2220 v2222).trips) (k1_t122 : Fin (k1_t122_loop v2220 v2222 k1_t121).trips), ∀ a, (k1_off1656 v2220 v2222 k1_t121 k1_t122) a + S1x16.size a ≤ S72x256.size a) ∧
  (∀ (k1_t121 : Fin (k1_t121_loop v2220 v2222).trips) (k1_t122 : Fin (k1_t122_loop v2220 v2222 k1_t121).trips), ∀ a, (k1_off1657 v2220 v2222 k1_t121 k1_t122) a + S1x16.size a ≤ S72x256.size a) ∧
  (∀ (k1_t121 : Fin (k1_t121_loop v2220 v2222).trips) (k1_t122 : Fin (k1_t122_loop v2220 v2222 k1_t121).trips), ∀ a, (k1_off1658 v2220 v2222 k1_t121 k1_t122) a + S1x16.size a ≤ S72x256.size a) ∧
  (∀ (k1_t121 : Fin (k1_t121_loop v2220 v2222).trips) (k1_t122 : Fin (k1_t122_loop v2220 v2222 k1_t121).trips), ∀ a, (k1_off1659 v2220 v2222 k1_t121 k1_t122) a + S1x16.size a ≤ S72x256.size a) ∧
  (∀ (k1_t121 : Fin (k1_t121_loop v2220 v2222).trips) (k1_t122 : Fin (k1_t122_loop v2220 v2222 k1_t121).trips), ∀ a, (k1_off1660 v2220 v2222 k1_t121 k1_t122) a + S1x16.size a ≤ S72x256.size a) ∧
  (∀ (k1_t121 : Fin (k1_t121_loop v2220 v2222).trips) (k1_t122 : Fin (k1_t122_loop v2220 v2222 k1_t121).trips), ∀ a, (k1_off1661 v2220 v2222 k1_t121 k1_t122) a + S1x16.size a ≤ S72x256.size a) ∧
  (∀ (k1_t121 : Fin (k1_t121_loop v2220 v2222).trips) (k1_t122 : Fin (k1_t122_loop v2220 v2222 k1_t121).trips), ∀ a, (k1_off1662 v2220 v2222 k1_t121 k1_t122) a + S1x16.size a ≤ S72x256.size a) ∧
  (∀ (k1_t121 : Fin (k1_t121_loop v2220 v2222).trips) (k1_t122 : Fin (k1_t122_loop v2220 v2222 k1_t121).trips), ∀ a, (k1_off1663 v2220 v2222 k1_t121 k1_t122) a + S1x16.size a ≤ S72x256.size a) ∧
  (∀ (k1_t121 : Fin (k1_t121_loop v2220 v2222).trips) (k1_t122 : Fin (k1_t122_loop v2220 v2222 k1_t121).trips), ∀ a, (k1_off1664 v2220 v2222 k1_t121 k1_t122) a + S1x16.size a ≤ S72x256.size a) ∧
  (∀ k1_t121 : Fin (k1_t121_loop v2220 v2222).trips, (k1_t123_loop v2220 v2222 k1_t121).OK) ∧
  (∀ (k1_t121 : Fin (k1_t121_loop v2220 v2222).trips) (k1_t123 : Fin (k1_t123_loop v2220 v2222 k1_t121).trips), ∀ a, (k1_off1665 v2220 v2222 k1_t121 k1_t123) a + S1x16.size a ≤ S72x256.size a) ∧
  (∀ (k1_t121 : Fin (k1_t121_loop v2220 v2222).trips) (k1_t123 : Fin (k1_t123_loop v2220 v2222 k1_t121).trips), ∀ a, (k1_off1666 v2220 v2222 k1_t121 k1_t123) a + S1x16.size a ≤ S72x256.size a) ∧
  (∀ (k1_t121 : Fin (k1_t121_loop v2220 v2222).trips) (k1_t123 : Fin (k1_t123_loop v2220 v2222 k1_t121).trips), ∀ a, (k1_off1667 v2220 v2222 k1_t121 k1_t123) a + S1x16.size a ≤ S72x256.size a) ∧
  (∀ (k1_t121 : Fin (k1_t121_loop v2220 v2222).trips) (k1_t123 : Fin (k1_t123_loop v2220 v2222 k1_t121).trips), ∀ a, (k1_off1668 v2220 v2222 k1_t121 k1_t123) a + S1x16.size a ≤ S72x256.size a) ∧
  (∀ (k1_t121 : Fin (k1_t121_loop v2220 v2222).trips) (k1_t123 : Fin (k1_t123_loop v2220 v2222 k1_t121).trips), ∀ a, (k1_off1669 v2220 v2222 k1_t121 k1_t123) a + S1x16.size a ≤ S72x256.size a) ∧
  (∀ (k1_t121 : Fin (k1_t121_loop v2220 v2222).trips) (k1_t123 : Fin (k1_t123_loop v2220 v2222 k1_t121).trips), ∀ a, (k1_off1670 v2220 v2222 k1_t121 k1_t123) a + S1x16.size a ≤ S72x256.size a) ∧
  (∀ (k1_t121 : Fin (k1_t121_loop v2220 v2222).trips) (k1_t123 : Fin (k1_t123_loop v2220 v2222 k1_t121).trips), ∀ a, (k1_off1671 v2220 v2222 k1_t121 k1_t123) a + S1x16.size a ≤ S72x256.size a) ∧
  (∀ (k1_t121 : Fin (k1_t121_loop v2220 v2222).trips) (k1_t123 : Fin (k1_t123_loop v2220 v2222 k1_t121).trips), ∀ a, (k1_off1672 v2220 v2222 k1_t121 k1_t123) a + S1x16.size a ≤ S72x256.size a) ∧
  (∀ (k1_t121 : Fin (k1_t121_loop v2220 v2222).trips) (k1_t123 : Fin (k1_t123_loop v2220 v2222 k1_t121).trips), ∀ a, (k1_off1673 v2220 v2222 k1_t121 k1_t123) a + S1x16.size a ≤ S72x256.size a) ∧
  (∀ (k1_t121 : Fin (k1_t121_loop v2220 v2222).trips) (k1_t123 : Fin (k1_t123_loop v2220 v2222 k1_t121).trips), ∀ a, (k1_off1674 v2220 v2222 k1_t121 k1_t123) a + S1x16.size a ≤ S72x256.size a)
def k1_chk13_1 (i : grid1.Coords) (v2220 : BitVec 32) (v2222 : BitVec 32) : Prop :=
  (∀ (k1_t121 : Fin (k1_t121_loop v2220 v2222).trips) (k1_t123 : Fin (k1_t123_loop v2220 v2222 k1_t121).trips), ∀ a, (k1_off1675 v2220 v2222 k1_t121 k1_t123) a + S1x16.size a ≤ S72x256.size a) ∧
  (∀ (k1_t121 : Fin (k1_t121_loop v2220 v2222).trips) (k1_t123 : Fin (k1_t123_loop v2220 v2222 k1_t121).trips), ∀ a, (k1_off1676 v2220 v2222 k1_t121 k1_t123) a + S1x16.size a ≤ S72x256.size a) ∧
  (∀ (k1_t121 : Fin (k1_t121_loop v2220 v2222).trips) (k1_t123 : Fin (k1_t123_loop v2220 v2222 k1_t121).trips), ∀ a, (k1_off1677 v2220 v2222 k1_t121 k1_t123) a + S1x16.size a ≤ S72x256.size a) ∧
  (∀ (k1_t121 : Fin (k1_t121_loop v2220 v2222).trips) (k1_t123 : Fin (k1_t123_loop v2220 v2222 k1_t121).trips), ∀ a, (k1_off1678 v2220 v2222 k1_t121 k1_t123) a + S1x16.size a ≤ S72x256.size a) ∧
  (∀ (k1_t121 : Fin (k1_t121_loop v2220 v2222).trips) (k1_t123 : Fin (k1_t123_loop v2220 v2222 k1_t121).trips), ∀ a, (k1_off1679 v2220 v2222 k1_t121 k1_t123) a + S1x16.size a ≤ S72x256.size a) ∧
  (∀ (k1_t121 : Fin (k1_t121_loop v2220 v2222).trips) (k1_t123 : Fin (k1_t123_loop v2220 v2222 k1_t121).trips), ∀ a, (k1_off1680 v2220 v2222 k1_t121 k1_t123) a + S1x16.size a ≤ S72x256.size a) ∧
  (∀ k1_t121 : Fin (k1_t121_loop v2220 v2222).trips, ∀ (k1_h112 : k1_cond112 v2220 v2222 k1_t121 = 1#1), ∀ a, (k1_off1681 i v2220 v2222 k1_t121) a + S72x256.size a ≤ S100000x512.size a) ∧
  (∀ k1_t121 : Fin (k1_t121_loop v2220 v2222).trips, ∀ (k1_h112 : k1_cond112 v2220 v2222 k1_t121 = 1#1), ∀ (k1_h113 : k1_cond113 v2220 v2222 k1_t121 = 1#1), ∀ a, (k1_off1682 i v2220 v2222 k1_t121) a + S72x256.size a ≤ S100000x512.size a) ∧
  (∀ k1_t121 : Fin (k1_t121_loop v2220 v2222).trips, (k1_t124_loop v2220 v2222 k1_t121).OK) ∧
  (∀ (k1_t121 : Fin (k1_t121_loop v2220 v2222).trips) (k1_t124 : Fin (k1_t124_loop v2220 v2222 k1_t121).trips), ∀ a, (k1_off1683 v2220 v2222 k1_t121 k1_t124) a + S1x16.size a ≤ S72x256.size a) ∧
  (∀ (k1_t121 : Fin (k1_t121_loop v2220 v2222).trips) (k1_t124 : Fin (k1_t124_loop v2220 v2222 k1_t121).trips), ∀ a, (k1_off1684 v2220 v2222 k1_t121 k1_t124) a + S1x16.size a ≤ S72x256.size a) ∧
  (∀ (k1_t121 : Fin (k1_t121_loop v2220 v2222).trips) (k1_t124 : Fin (k1_t124_loop v2220 v2222 k1_t121).trips), ∀ a, (k1_off1685 v2220 v2222 k1_t121 k1_t124) a + S1x16.size a ≤ S72x256.size a) ∧
  (∀ (k1_t121 : Fin (k1_t121_loop v2220 v2222).trips) (k1_t124 : Fin (k1_t124_loop v2220 v2222 k1_t121).trips), ∀ a, (k1_off1686 v2220 v2222 k1_t121 k1_t124) a + S1x16.size a ≤ S72x256.size a) ∧
  (∀ (k1_t121 : Fin (k1_t121_loop v2220 v2222).trips) (k1_t124 : Fin (k1_t124_loop v2220 v2222 k1_t121).trips), ∀ a, (k1_off1687 v2220 v2222 k1_t121 k1_t124) a + S1x16.size a ≤ S72x256.size a) ∧
  (∀ (k1_t121 : Fin (k1_t121_loop v2220 v2222).trips) (k1_t124 : Fin (k1_t124_loop v2220 v2222 k1_t121).trips), ∀ a, (k1_off1688 v2220 v2222 k1_t121 k1_t124) a + S1x16.size a ≤ S72x256.size a) ∧
  (∀ (k1_t121 : Fin (k1_t121_loop v2220 v2222).trips) (k1_t124 : Fin (k1_t124_loop v2220 v2222 k1_t121).trips), ∀ a, (k1_off1689 v2220 v2222 k1_t121 k1_t124) a + S1x16.size a ≤ S72x256.size a) ∧
  (∀ (k1_t121 : Fin (k1_t121_loop v2220 v2222).trips) (k1_t124 : Fin (k1_t124_loop v2220 v2222 k1_t121).trips), ∀ a, (k1_off1690 v2220 v2222 k1_t121 k1_t124) a + S1x16.size a ≤ S72x256.size a) ∧
  (∀ (k1_t121 : Fin (k1_t121_loop v2220 v2222).trips) (k1_t124 : Fin (k1_t124_loop v2220 v2222 k1_t121).trips), ∀ a, (k1_off1691 v2220 v2222 k1_t121 k1_t124) a + S1x16.size a ≤ S72x256.size a) ∧
  (∀ (k1_t121 : Fin (k1_t121_loop v2220 v2222).trips) (k1_t124 : Fin (k1_t124_loop v2220 v2222 k1_t121).trips), ∀ a, (k1_off1692 v2220 v2222 k1_t121 k1_t124) a + S1x16.size a ≤ S72x256.size a) ∧
  (∀ (k1_t121 : Fin (k1_t121_loop v2220 v2222).trips) (k1_t124 : Fin (k1_t124_loop v2220 v2222 k1_t121).trips), ∀ a, (k1_off1693 v2220 v2222 k1_t121 k1_t124) a + S1x16.size a ≤ S72x256.size a) ∧
  (∀ (k1_t121 : Fin (k1_t121_loop v2220 v2222).trips) (k1_t124 : Fin (k1_t124_loop v2220 v2222 k1_t121).trips), ∀ a, (k1_off1694 v2220 v2222 k1_t121 k1_t124) a + S1x16.size a ≤ S72x256.size a) ∧
  (∀ (k1_t121 : Fin (k1_t121_loop v2220 v2222).trips) (k1_t124 : Fin (k1_t124_loop v2220 v2222 k1_t121).trips), ∀ a, (k1_off1695 v2220 v2222 k1_t121 k1_t124) a + S1x16.size a ≤ S72x256.size a) ∧
  (∀ (k1_t121 : Fin (k1_t121_loop v2220 v2222).trips) (k1_t124 : Fin (k1_t124_loop v2220 v2222 k1_t121).trips), ∀ a, (k1_off1696 v2220 v2222 k1_t121 k1_t124) a + S1x16.size a ≤ S72x256.size a) ∧
  (∀ (k1_t121 : Fin (k1_t121_loop v2220 v2222).trips) (k1_t124 : Fin (k1_t124_loop v2220 v2222 k1_t121).trips), ∀ a, (k1_off1697 v2220 v2222 k1_t121 k1_t124) a + S1x16.size a ≤ S72x256.size a) ∧
  (∀ (k1_t121 : Fin (k1_t121_loop v2220 v2222).trips) (k1_t124 : Fin (k1_t124_loop v2220 v2222 k1_t121).trips), ∀ a, (k1_off1698 v2220 v2222 k1_t121 k1_t124) a + S1x16.size a ≤ S72x256.size a) ∧
  (∀ k1_t121 : Fin (k1_t121_loop v2220 v2222).trips, (k1_t125_loop v2220 v2222 k1_t121).OK) ∧
  (∀ (k1_t121 : Fin (k1_t121_loop v2220 v2222).trips) (k1_t125 : Fin (k1_t125_loop v2220 v2222 k1_t121).trips), ∀ a, (k1_off1699 v2220 v2222 k1_t121 k1_t125) a + S1x16.size a ≤ S72x256.size a) ∧
  (∀ (k1_t121 : Fin (k1_t121_loop v2220 v2222).trips) (k1_t125 : Fin (k1_t125_loop v2220 v2222 k1_t121).trips), ∀ a, (k1_off1700 v2220 v2222 k1_t121 k1_t125) a + S1x16.size a ≤ S72x256.size a) ∧
  (∀ (k1_t121 : Fin (k1_t121_loop v2220 v2222).trips) (k1_t125 : Fin (k1_t125_loop v2220 v2222 k1_t121).trips), ∀ a, (k1_off1701 v2220 v2222 k1_t121 k1_t125) a + S1x16.size a ≤ S72x256.size a) ∧
  (∀ (k1_t121 : Fin (k1_t121_loop v2220 v2222).trips) (k1_t125 : Fin (k1_t125_loop v2220 v2222 k1_t121).trips), ∀ a, (k1_off1702 v2220 v2222 k1_t121 k1_t125) a + S1x16.size a ≤ S72x256.size a) ∧
  (∀ (k1_t121 : Fin (k1_t121_loop v2220 v2222).trips) (k1_t125 : Fin (k1_t125_loop v2220 v2222 k1_t121).trips), ∀ a, (k1_off1703 v2220 v2222 k1_t121 k1_t125) a + S1x16.size a ≤ S72x256.size a) ∧
  (∀ (k1_t121 : Fin (k1_t121_loop v2220 v2222).trips) (k1_t125 : Fin (k1_t125_loop v2220 v2222 k1_t121).trips), ∀ a, (k1_off1704 v2220 v2222 k1_t121 k1_t125) a + S1x16.size a ≤ S72x256.size a)
def k1_chk13_2 (i : grid1.Coords) (v2220 : BitVec 32) (v2222 : BitVec 32) : Prop :=
  (∀ (k1_t121 : Fin (k1_t121_loop v2220 v2222).trips) (k1_t125 : Fin (k1_t125_loop v2220 v2222 k1_t121).trips), ∀ a, (k1_off1705 v2220 v2222 k1_t121 k1_t125) a + S1x16.size a ≤ S72x256.size a) ∧
  (∀ (k1_t121 : Fin (k1_t121_loop v2220 v2222).trips) (k1_t125 : Fin (k1_t125_loop v2220 v2222 k1_t121).trips), ∀ a, (k1_off1706 v2220 v2222 k1_t121 k1_t125) a + S1x16.size a ≤ S72x256.size a) ∧
  (∀ (k1_t121 : Fin (k1_t121_loop v2220 v2222).trips) (k1_t125 : Fin (k1_t125_loop v2220 v2222 k1_t121).trips), ∀ a, (k1_off1707 v2220 v2222 k1_t121 k1_t125) a + S1x16.size a ≤ S72x256.size a) ∧
  (∀ (k1_t121 : Fin (k1_t121_loop v2220 v2222).trips) (k1_t125 : Fin (k1_t125_loop v2220 v2222 k1_t121).trips), ∀ a, (k1_off1708 v2220 v2222 k1_t121 k1_t125) a + S1x16.size a ≤ S72x256.size a) ∧
  (∀ (k1_t121 : Fin (k1_t121_loop v2220 v2222).trips) (k1_t125 : Fin (k1_t125_loop v2220 v2222 k1_t121).trips), ∀ a, (k1_off1709 v2220 v2222 k1_t121 k1_t125) a + S1x16.size a ≤ S72x256.size a) ∧
  (∀ (k1_t121 : Fin (k1_t121_loop v2220 v2222).trips) (k1_t125 : Fin (k1_t125_loop v2220 v2222 k1_t121).trips), ∀ a, (k1_off1710 v2220 v2222 k1_t121 k1_t125) a + S1x16.size a ≤ S72x256.size a) ∧
  (∀ (k1_t121 : Fin (k1_t121_loop v2220 v2222).trips) (k1_t125 : Fin (k1_t125_loop v2220 v2222 k1_t121).trips), ∀ a, (k1_off1711 v2220 v2222 k1_t121 k1_t125) a + S1x16.size a ≤ S72x256.size a) ∧
  (∀ (k1_t121 : Fin (k1_t121_loop v2220 v2222).trips) (k1_t125 : Fin (k1_t125_loop v2220 v2222 k1_t121).trips), ∀ a, (k1_off1712 v2220 v2222 k1_t121 k1_t125) a + S1x16.size a ≤ S72x256.size a) ∧
  (∀ (k1_t121 : Fin (k1_t121_loop v2220 v2222).trips) (k1_t125 : Fin (k1_t125_loop v2220 v2222 k1_t121).trips), ∀ a, (k1_off1713 v2220 v2222 k1_t121 k1_t125) a + S1x16.size a ≤ S72x256.size a) ∧
  (∀ (k1_t121 : Fin (k1_t121_loop v2220 v2222).trips) (k1_t125 : Fin (k1_t125_loop v2220 v2222 k1_t121).trips), ∀ a, (k1_off1714 v2220 v2222 k1_t121 k1_t125) a + S1x16.size a ≤ S72x256.size a) ∧
  ((k1_t126_loop v2220 v2222).OK) ∧
  (∀ k1_t126 : Fin (k1_t126_loop v2220 v2222).trips, ∀ (k1_h114 : k1_cond114 v2220 v2222 k1_t126 = 1#1), ∀ a, (k1_off1715 i v2220 v2222 k1_t126) a + S72x256.size a ≤ S100000x512.size a) ∧
  (∀ k1_t126 : Fin (k1_t126_loop v2220 v2222).trips, ∀ (k1_h114 : k1_cond114 v2220 v2222 k1_t126 = 1#1), ∀ (k1_h115 : k1_cond115 v2220 v2222 k1_t126 = 1#1), ∀ a, (k1_off1716 i v2220 v2222 k1_t126) a + S72x256.size a ≤ S100000x512.size a) ∧
  (∀ k1_t126 : Fin (k1_t126_loop v2220 v2222).trips, (k1_t127_loop v2220 v2222 k1_t126).OK) ∧
  (∀ (k1_t126 : Fin (k1_t126_loop v2220 v2222).trips) (k1_t127 : Fin (k1_t127_loop v2220 v2222 k1_t126).trips), ∀ a, (k1_off1717 v2220 v2222 k1_t126 k1_t127) a + S1x16.size a ≤ S72x256.size a) ∧
  (∀ (k1_t126 : Fin (k1_t126_loop v2220 v2222).trips) (k1_t127 : Fin (k1_t127_loop v2220 v2222 k1_t126).trips), ∀ a, (k1_off1718 v2220 v2222 k1_t126 k1_t127) a + S1x16.size a ≤ S72x256.size a) ∧
  (∀ (k1_t126 : Fin (k1_t126_loop v2220 v2222).trips) (k1_t127 : Fin (k1_t127_loop v2220 v2222 k1_t126).trips), ∀ a, (k1_off1719 v2220 v2222 k1_t126 k1_t127) a + S1x16.size a ≤ S72x256.size a) ∧
  (∀ (k1_t126 : Fin (k1_t126_loop v2220 v2222).trips) (k1_t127 : Fin (k1_t127_loop v2220 v2222 k1_t126).trips), ∀ a, (k1_off1720 v2220 v2222 k1_t126 k1_t127) a + S1x16.size a ≤ S72x256.size a) ∧
  (∀ (k1_t126 : Fin (k1_t126_loop v2220 v2222).trips) (k1_t127 : Fin (k1_t127_loop v2220 v2222 k1_t126).trips), ∀ a, (k1_off1721 v2220 v2222 k1_t126 k1_t127) a + S1x16.size a ≤ S72x256.size a) ∧
  (∀ (k1_t126 : Fin (k1_t126_loop v2220 v2222).trips) (k1_t127 : Fin (k1_t127_loop v2220 v2222 k1_t126).trips), ∀ a, (k1_off1722 v2220 v2222 k1_t126 k1_t127) a + S1x16.size a ≤ S72x256.size a) ∧
  (∀ (k1_t126 : Fin (k1_t126_loop v2220 v2222).trips) (k1_t127 : Fin (k1_t127_loop v2220 v2222 k1_t126).trips), ∀ a, (k1_off1723 v2220 v2222 k1_t126 k1_t127) a + S1x16.size a ≤ S72x256.size a) ∧
  (∀ (k1_t126 : Fin (k1_t126_loop v2220 v2222).trips) (k1_t127 : Fin (k1_t127_loop v2220 v2222 k1_t126).trips), ∀ a, (k1_off1724 v2220 v2222 k1_t126 k1_t127) a + S1x16.size a ≤ S72x256.size a) ∧
  (∀ (k1_t126 : Fin (k1_t126_loop v2220 v2222).trips) (k1_t127 : Fin (k1_t127_loop v2220 v2222 k1_t126).trips), ∀ a, (k1_off1725 v2220 v2222 k1_t126 k1_t127) a + S1x16.size a ≤ S72x256.size a) ∧
  (∀ (k1_t126 : Fin (k1_t126_loop v2220 v2222).trips) (k1_t127 : Fin (k1_t127_loop v2220 v2222 k1_t126).trips), ∀ a, (k1_off1726 v2220 v2222 k1_t126 k1_t127) a + S1x16.size a ≤ S72x256.size a) ∧
  (∀ (k1_t126 : Fin (k1_t126_loop v2220 v2222).trips) (k1_t127 : Fin (k1_t127_loop v2220 v2222 k1_t126).trips), ∀ a, (k1_off1727 v2220 v2222 k1_t126 k1_t127) a + S1x16.size a ≤ S72x256.size a) ∧
  (∀ (k1_t126 : Fin (k1_t126_loop v2220 v2222).trips) (k1_t127 : Fin (k1_t127_loop v2220 v2222 k1_t126).trips), ∀ a, (k1_off1728 v2220 v2222 k1_t126 k1_t127) a + S1x16.size a ≤ S72x256.size a) ∧
  (∀ (k1_t126 : Fin (k1_t126_loop v2220 v2222).trips) (k1_t127 : Fin (k1_t127_loop v2220 v2222 k1_t126).trips), ∀ a, (k1_off1729 v2220 v2222 k1_t126 k1_t127) a + S1x16.size a ≤ S72x256.size a) ∧
  (∀ (k1_t126 : Fin (k1_t126_loop v2220 v2222).trips) (k1_t127 : Fin (k1_t127_loop v2220 v2222 k1_t126).trips), ∀ a, (k1_off1730 v2220 v2222 k1_t126 k1_t127) a + S1x16.size a ≤ S72x256.size a) ∧
  (∀ (k1_t126 : Fin (k1_t126_loop v2220 v2222).trips) (k1_t127 : Fin (k1_t127_loop v2220 v2222 k1_t126).trips), ∀ a, (k1_off1731 v2220 v2222 k1_t126 k1_t127) a + S1x16.size a ≤ S72x256.size a) ∧
  (∀ (k1_t126 : Fin (k1_t126_loop v2220 v2222).trips) (k1_t127 : Fin (k1_t127_loop v2220 v2222 k1_t126).trips), ∀ a, (k1_off1732 v2220 v2222 k1_t126 k1_t127) a + S1x16.size a ≤ S72x256.size a) ∧
  (∀ k1_t126 : Fin (k1_t126_loop v2220 v2222).trips, (k1_t128_loop v2220 v2222 k1_t126).OK) ∧
  (∀ (k1_t126 : Fin (k1_t126_loop v2220 v2222).trips) (k1_t128 : Fin (k1_t128_loop v2220 v2222 k1_t126).trips), ∀ a, (k1_off1733 v2220 v2222 k1_t126 k1_t128) a + S1x16.size a ≤ S72x256.size a)
def k1_chk13_3 (i : grid1.Coords) (v2220 : BitVec 32) (v2222 : BitVec 32) : Prop :=
  (∀ (k1_t126 : Fin (k1_t126_loop v2220 v2222).trips) (k1_t128 : Fin (k1_t128_loop v2220 v2222 k1_t126).trips), ∀ a, (k1_off1734 v2220 v2222 k1_t126 k1_t128) a + S1x16.size a ≤ S72x256.size a) ∧
  (∀ (k1_t126 : Fin (k1_t126_loop v2220 v2222).trips) (k1_t128 : Fin (k1_t128_loop v2220 v2222 k1_t126).trips), ∀ a, (k1_off1735 v2220 v2222 k1_t126 k1_t128) a + S1x16.size a ≤ S72x256.size a) ∧
  (∀ (k1_t126 : Fin (k1_t126_loop v2220 v2222).trips) (k1_t128 : Fin (k1_t128_loop v2220 v2222 k1_t126).trips), ∀ a, (k1_off1736 v2220 v2222 k1_t126 k1_t128) a + S1x16.size a ≤ S72x256.size a) ∧
  (∀ (k1_t126 : Fin (k1_t126_loop v2220 v2222).trips) (k1_t128 : Fin (k1_t128_loop v2220 v2222 k1_t126).trips), ∀ a, (k1_off1737 v2220 v2222 k1_t126 k1_t128) a + S1x16.size a ≤ S72x256.size a) ∧
  (∀ (k1_t126 : Fin (k1_t126_loop v2220 v2222).trips) (k1_t128 : Fin (k1_t128_loop v2220 v2222 k1_t126).trips), ∀ a, (k1_off1738 v2220 v2222 k1_t126 k1_t128) a + S1x16.size a ≤ S72x256.size a) ∧
  (∀ (k1_t126 : Fin (k1_t126_loop v2220 v2222).trips) (k1_t128 : Fin (k1_t128_loop v2220 v2222 k1_t126).trips), ∀ a, (k1_off1739 v2220 v2222 k1_t126 k1_t128) a + S1x16.size a ≤ S72x256.size a) ∧
  (∀ (k1_t126 : Fin (k1_t126_loop v2220 v2222).trips) (k1_t128 : Fin (k1_t128_loop v2220 v2222 k1_t126).trips), ∀ a, (k1_off1740 v2220 v2222 k1_t126 k1_t128) a + S1x16.size a ≤ S72x256.size a) ∧
  (∀ (k1_t126 : Fin (k1_t126_loop v2220 v2222).trips) (k1_t128 : Fin (k1_t128_loop v2220 v2222 k1_t126).trips), ∀ a, (k1_off1741 v2220 v2222 k1_t126 k1_t128) a + S1x16.size a ≤ S72x256.size a) ∧
  (∀ (k1_t126 : Fin (k1_t126_loop v2220 v2222).trips) (k1_t128 : Fin (k1_t128_loop v2220 v2222 k1_t126).trips), ∀ a, (k1_off1742 v2220 v2222 k1_t126 k1_t128) a + S1x16.size a ≤ S72x256.size a) ∧
  (∀ (k1_t126 : Fin (k1_t126_loop v2220 v2222).trips) (k1_t128 : Fin (k1_t128_loop v2220 v2222 k1_t126).trips), ∀ a, (k1_off1743 v2220 v2222 k1_t126 k1_t128) a + S1x16.size a ≤ S72x256.size a) ∧
  (∀ (k1_t126 : Fin (k1_t126_loop v2220 v2222).trips) (k1_t128 : Fin (k1_t128_loop v2220 v2222 k1_t126).trips), ∀ a, (k1_off1744 v2220 v2222 k1_t126 k1_t128) a + S1x16.size a ≤ S72x256.size a) ∧
  (∀ (k1_t126 : Fin (k1_t126_loop v2220 v2222).trips) (k1_t128 : Fin (k1_t128_loop v2220 v2222 k1_t126).trips), ∀ a, (k1_off1745 v2220 v2222 k1_t126 k1_t128) a + S1x16.size a ≤ S72x256.size a) ∧
  (∀ (k1_t126 : Fin (k1_t126_loop v2220 v2222).trips) (k1_t128 : Fin (k1_t128_loop v2220 v2222 k1_t126).trips), ∀ a, (k1_off1746 v2220 v2222 k1_t126 k1_t128) a + S1x16.size a ≤ S72x256.size a) ∧
  (∀ (k1_t126 : Fin (k1_t126_loop v2220 v2222).trips) (k1_t128 : Fin (k1_t128_loop v2220 v2222 k1_t126).trips), ∀ a, (k1_off1747 v2220 v2222 k1_t126 k1_t128) a + S1x16.size a ≤ S72x256.size a) ∧
  (∀ (k1_t126 : Fin (k1_t126_loop v2220 v2222).trips) (k1_t128 : Fin (k1_t128_loop v2220 v2222 k1_t126).trips), ∀ a, (k1_off1748 v2220 v2222 k1_t126 k1_t128) a + S1x16.size a ≤ S72x256.size a) ∧
  (∀ k1_t126 : Fin (k1_t126_loop v2220 v2222).trips, ∀ (k1_h116 : k1_cond116 v2220 v2222 k1_t126 = 1#1), ∀ a, (k1_off1749 i v2220 v2222 k1_t126) a + S72x256.size a ≤ S100000x512.size a) ∧
  (∀ k1_t126 : Fin (k1_t126_loop v2220 v2222).trips, ∀ (k1_h116 : k1_cond116 v2220 v2222 k1_t126 = 1#1), ∀ (k1_h117 : k1_cond117 v2220 v2222 k1_t126 = 1#1), ∀ a, (k1_off1750 i v2220 v2222 k1_t126) a + S72x256.size a ≤ S100000x512.size a) ∧
  (∀ k1_t126 : Fin (k1_t126_loop v2220 v2222).trips, (k1_t129_loop v2220 v2222 k1_t126).OK) ∧
  (∀ (k1_t126 : Fin (k1_t126_loop v2220 v2222).trips) (k1_t129 : Fin (k1_t129_loop v2220 v2222 k1_t126).trips), ∀ a, (k1_off1751 v2220 v2222 k1_t126 k1_t129) a + S1x16.size a ≤ S72x256.size a) ∧
  (∀ (k1_t126 : Fin (k1_t126_loop v2220 v2222).trips) (k1_t129 : Fin (k1_t129_loop v2220 v2222 k1_t126).trips), ∀ a, (k1_off1752 v2220 v2222 k1_t126 k1_t129) a + S1x16.size a ≤ S72x256.size a) ∧
  (∀ (k1_t126 : Fin (k1_t126_loop v2220 v2222).trips) (k1_t129 : Fin (k1_t129_loop v2220 v2222 k1_t126).trips), ∀ a, (k1_off1753 v2220 v2222 k1_t126 k1_t129) a + S1x16.size a ≤ S72x256.size a) ∧
  (∀ (k1_t126 : Fin (k1_t126_loop v2220 v2222).trips) (k1_t129 : Fin (k1_t129_loop v2220 v2222 k1_t126).trips), ∀ a, (k1_off1754 v2220 v2222 k1_t126 k1_t129) a + S1x16.size a ≤ S72x256.size a) ∧
  (∀ (k1_t126 : Fin (k1_t126_loop v2220 v2222).trips) (k1_t129 : Fin (k1_t129_loop v2220 v2222 k1_t126).trips), ∀ a, (k1_off1755 v2220 v2222 k1_t126 k1_t129) a + S1x16.size a ≤ S72x256.size a) ∧
  (∀ (k1_t126 : Fin (k1_t126_loop v2220 v2222).trips) (k1_t129 : Fin (k1_t129_loop v2220 v2222 k1_t126).trips), ∀ a, (k1_off1756 v2220 v2222 k1_t126 k1_t129) a + S1x16.size a ≤ S72x256.size a) ∧
  (∀ (k1_t126 : Fin (k1_t126_loop v2220 v2222).trips) (k1_t129 : Fin (k1_t129_loop v2220 v2222 k1_t126).trips), ∀ a, (k1_off1757 v2220 v2222 k1_t126 k1_t129) a + S1x16.size a ≤ S72x256.size a) ∧
  (∀ (k1_t126 : Fin (k1_t126_loop v2220 v2222).trips) (k1_t129 : Fin (k1_t129_loop v2220 v2222 k1_t126).trips), ∀ a, (k1_off1758 v2220 v2222 k1_t126 k1_t129) a + S1x16.size a ≤ S72x256.size a) ∧
  (∀ (k1_t126 : Fin (k1_t126_loop v2220 v2222).trips) (k1_t129 : Fin (k1_t129_loop v2220 v2222 k1_t126).trips), ∀ a, (k1_off1759 v2220 v2222 k1_t126 k1_t129) a + S1x16.size a ≤ S72x256.size a) ∧
  (∀ (k1_t126 : Fin (k1_t126_loop v2220 v2222).trips) (k1_t129 : Fin (k1_t129_loop v2220 v2222 k1_t126).trips), ∀ a, (k1_off1760 v2220 v2222 k1_t126 k1_t129) a + S1x16.size a ≤ S72x256.size a) ∧
  (∀ (k1_t126 : Fin (k1_t126_loop v2220 v2222).trips) (k1_t129 : Fin (k1_t129_loop v2220 v2222 k1_t126).trips), ∀ a, (k1_off1761 v2220 v2222 k1_t126 k1_t129) a + S1x16.size a ≤ S72x256.size a) ∧
  (∀ (k1_t126 : Fin (k1_t126_loop v2220 v2222).trips) (k1_t129 : Fin (k1_t129_loop v2220 v2222 k1_t126).trips), ∀ a, (k1_off1762 v2220 v2222 k1_t126 k1_t129) a + S1x16.size a ≤ S72x256.size a) ∧
  (∀ (k1_t126 : Fin (k1_t126_loop v2220 v2222).trips) (k1_t129 : Fin (k1_t129_loop v2220 v2222 k1_t126).trips), ∀ a, (k1_off1763 v2220 v2222 k1_t126 k1_t129) a + S1x16.size a ≤ S72x256.size a) ∧
  (∀ (k1_t126 : Fin (k1_t126_loop v2220 v2222).trips) (k1_t129 : Fin (k1_t129_loop v2220 v2222 k1_t126).trips), ∀ a, (k1_off1764 v2220 v2222 k1_t126 k1_t129) a + S1x16.size a ≤ S72x256.size a)
def k1_chk13_4 (i : grid1.Coords) (v2220 : BitVec 32) (v2222 : BitVec 32) : Prop :=
  (∀ (k1_t126 : Fin (k1_t126_loop v2220 v2222).trips) (k1_t129 : Fin (k1_t129_loop v2220 v2222 k1_t126).trips), ∀ a, (k1_off1765 v2220 v2222 k1_t126 k1_t129) a + S1x16.size a ≤ S72x256.size a) ∧
  (∀ (k1_t126 : Fin (k1_t126_loop v2220 v2222).trips) (k1_t129 : Fin (k1_t129_loop v2220 v2222 k1_t126).trips), ∀ a, (k1_off1766 v2220 v2222 k1_t126 k1_t129) a + S1x16.size a ≤ S72x256.size a) ∧
  (∀ k1_t126 : Fin (k1_t126_loop v2220 v2222).trips, (k1_t130_loop v2220 v2222 k1_t126).OK) ∧
  (∀ (k1_t126 : Fin (k1_t126_loop v2220 v2222).trips) (k1_t130 : Fin (k1_t130_loop v2220 v2222 k1_t126).trips), ∀ a, (k1_off1767 v2220 v2222 k1_t126 k1_t130) a + S1x16.size a ≤ S72x256.size a) ∧
  (∀ (k1_t126 : Fin (k1_t126_loop v2220 v2222).trips) (k1_t130 : Fin (k1_t130_loop v2220 v2222 k1_t126).trips), ∀ a, (k1_off1768 v2220 v2222 k1_t126 k1_t130) a + S1x16.size a ≤ S72x256.size a) ∧
  (∀ (k1_t126 : Fin (k1_t126_loop v2220 v2222).trips) (k1_t130 : Fin (k1_t130_loop v2220 v2222 k1_t126).trips), ∀ a, (k1_off1769 v2220 v2222 k1_t126 k1_t130) a + S1x16.size a ≤ S72x256.size a) ∧
  (∀ (k1_t126 : Fin (k1_t126_loop v2220 v2222).trips) (k1_t130 : Fin (k1_t130_loop v2220 v2222 k1_t126).trips), ∀ a, (k1_off1770 v2220 v2222 k1_t126 k1_t130) a + S1x16.size a ≤ S72x256.size a) ∧
  (∀ (k1_t126 : Fin (k1_t126_loop v2220 v2222).trips) (k1_t130 : Fin (k1_t130_loop v2220 v2222 k1_t126).trips), ∀ a, (k1_off1771 v2220 v2222 k1_t126 k1_t130) a + S1x16.size a ≤ S72x256.size a) ∧
  (∀ (k1_t126 : Fin (k1_t126_loop v2220 v2222).trips) (k1_t130 : Fin (k1_t130_loop v2220 v2222 k1_t126).trips), ∀ a, (k1_off1772 v2220 v2222 k1_t126 k1_t130) a + S1x16.size a ≤ S72x256.size a) ∧
  (∀ (k1_t126 : Fin (k1_t126_loop v2220 v2222).trips) (k1_t130 : Fin (k1_t130_loop v2220 v2222 k1_t126).trips), ∀ a, (k1_off1773 v2220 v2222 k1_t126 k1_t130) a + S1x16.size a ≤ S72x256.size a) ∧
  (∀ (k1_t126 : Fin (k1_t126_loop v2220 v2222).trips) (k1_t130 : Fin (k1_t130_loop v2220 v2222 k1_t126).trips), ∀ a, (k1_off1774 v2220 v2222 k1_t126 k1_t130) a + S1x16.size a ≤ S72x256.size a) ∧
  (∀ (k1_t126 : Fin (k1_t126_loop v2220 v2222).trips) (k1_t130 : Fin (k1_t130_loop v2220 v2222 k1_t126).trips), ∀ a, (k1_off1775 v2220 v2222 k1_t126 k1_t130) a + S1x16.size a ≤ S72x256.size a) ∧
  (∀ (k1_t126 : Fin (k1_t126_loop v2220 v2222).trips) (k1_t130 : Fin (k1_t130_loop v2220 v2222 k1_t126).trips), ∀ a, (k1_off1776 v2220 v2222 k1_t126 k1_t130) a + S1x16.size a ≤ S72x256.size a) ∧
  (∀ (k1_t126 : Fin (k1_t126_loop v2220 v2222).trips) (k1_t130 : Fin (k1_t130_loop v2220 v2222 k1_t126).trips), ∀ a, (k1_off1777 v2220 v2222 k1_t126 k1_t130) a + S1x16.size a ≤ S72x256.size a) ∧
  (∀ (k1_t126 : Fin (k1_t126_loop v2220 v2222).trips) (k1_t130 : Fin (k1_t130_loop v2220 v2222 k1_t126).trips), ∀ a, (k1_off1778 v2220 v2222 k1_t126 k1_t130) a + S1x16.size a ≤ S72x256.size a) ∧
  (∀ (k1_t126 : Fin (k1_t126_loop v2220 v2222).trips) (k1_t130 : Fin (k1_t130_loop v2220 v2222 k1_t126).trips), ∀ a, (k1_off1779 v2220 v2222 k1_t126 k1_t130) a + S1x16.size a ≤ S72x256.size a) ∧
  (∀ (k1_t126 : Fin (k1_t126_loop v2220 v2222).trips) (k1_t130 : Fin (k1_t130_loop v2220 v2222 k1_t126).trips), ∀ a, (k1_off1780 v2220 v2222 k1_t126 k1_t130) a + S1x16.size a ≤ S72x256.size a) ∧
  (∀ (k1_t126 : Fin (k1_t126_loop v2220 v2222).trips) (k1_t130 : Fin (k1_t130_loop v2220 v2222 k1_t126).trips), ∀ a, (k1_off1781 v2220 v2222 k1_t126 k1_t130) a + S1x16.size a ≤ S72x256.size a) ∧
  (∀ (k1_t126 : Fin (k1_t126_loop v2220 v2222).trips) (k1_t130 : Fin (k1_t130_loop v2220 v2222 k1_t126).trips), ∀ a, (k1_off1782 v2220 v2222 k1_t126 k1_t130) a + S1x16.size a ≤ S72x256.size a)
def k1_chk13 (i : grid1.Coords) (v2220 : BitVec 32) (v2222 : BitVec 32) : Prop :=
  k1_chk13_0 i v2220 v2222 ∧
  k1_chk13_1 i v2220 v2222 ∧
  k1_chk13_2 i v2220 v2222 ∧
  k1_chk13_3 i v2220 v2222 ∧
  k1_chk13_4 i v2220 v2222
theorem k1_off1646_inb : ∀ (i : grid1.Coords) (v2220 : BitVec 32) (v2222 : BitVec 32) (k1_hw13 : k1_chk13 i v2220 v2222), ∀ (k1_h109 : k1_cond109 v2220 v2222 = 1#1), ∀ a, (k1_off1646 i v2220) a + S72x256.size a ≤ S100000x512.size a := fun i v2220 v2222 k1_hw13 k1_h109 => k1_hw13.1.1 k1_h109
theorem k1_t121_ok : ∀ (i : grid1.Coords) (v2220 : BitVec 32) (v2222 : BitVec 32) (k1_hw13 : k1_chk13 i v2220 v2222), (k1_t121_loop v2220 v2222).OK := fun i v2220 v2222 k1_hw13 => k1_hw13.1.2.1
theorem k1_off1647_inb : ∀ (i : grid1.Coords) (v2220 : BitVec 32) (v2222 : BitVec 32) (k1_hw13 : k1_chk13 i v2220 v2222) (k1_t121 : Fin (k1_t121_loop v2220 v2222).trips), ∀ (k1_h110 : k1_cond110 v2220 v2222 k1_t121 = 1#1), ∀ a, (k1_off1647 i v2220 v2222 k1_t121) a + S72x256.size a ≤ S100000x512.size a := fun i v2220 v2222 k1_hw13 k1_t121 k1_h110 => k1_hw13.1.2.2.1 k1_t121 k1_h110
theorem k1_off1648_inb : ∀ (i : grid1.Coords) (v2220 : BitVec 32) (v2222 : BitVec 32) (k1_hw13 : k1_chk13 i v2220 v2222) (k1_t121 : Fin (k1_t121_loop v2220 v2222).trips), ∀ (k1_h110 : k1_cond110 v2220 v2222 k1_t121 = 1#1), ∀ (k1_h111 : k1_cond111 v2220 v2222 k1_t121 = 1#1), ∀ a, (k1_off1648 i v2220 v2222 k1_t121) a + S72x256.size a ≤ S100000x512.size a := fun i v2220 v2222 k1_hw13 k1_t121 k1_h110 k1_h111 => k1_hw13.1.2.2.2.1 k1_t121 k1_h110 k1_h111
theorem k1_t122_ok : ∀ (i : grid1.Coords) (v2220 : BitVec 32) (v2222 : BitVec 32) (k1_hw13 : k1_chk13 i v2220 v2222) (k1_t121 : Fin (k1_t121_loop v2220 v2222).trips), (k1_t122_loop v2220 v2222 k1_t121).OK := fun i v2220 v2222 k1_hw13 k1_t121 => k1_hw13.1.2.2.2.2.1 k1_t121
theorem k1_off1649_inb : ∀ (i : grid1.Coords) (v2220 : BitVec 32) (v2222 : BitVec 32) (k1_hw13 : k1_chk13 i v2220 v2222) (k1_t121 : Fin (k1_t121_loop v2220 v2222).trips) (k1_t122 : Fin (k1_t122_loop v2220 v2222 k1_t121).trips), ∀ a, (k1_off1649 v2220 v2222 k1_t121 k1_t122) a + S1x16.size a ≤ S72x256.size a := fun i v2220 v2222 k1_hw13 k1_t121 k1_t122 => k1_hw13.1.2.2.2.2.2.1 k1_t121 k1_t122
theorem k1_off1650_inb : ∀ (i : grid1.Coords) (v2220 : BitVec 32) (v2222 : BitVec 32) (k1_hw13 : k1_chk13 i v2220 v2222) (k1_t121 : Fin (k1_t121_loop v2220 v2222).trips) (k1_t122 : Fin (k1_t122_loop v2220 v2222 k1_t121).trips), ∀ a, (k1_off1650 v2220 v2222 k1_t121 k1_t122) a + S1x16.size a ≤ S72x256.size a := fun i v2220 v2222 k1_hw13 k1_t121 k1_t122 => k1_hw13.1.2.2.2.2.2.2.1 k1_t121 k1_t122
theorem k1_off1651_inb : ∀ (i : grid1.Coords) (v2220 : BitVec 32) (v2222 : BitVec 32) (k1_hw13 : k1_chk13 i v2220 v2222) (k1_t121 : Fin (k1_t121_loop v2220 v2222).trips) (k1_t122 : Fin (k1_t122_loop v2220 v2222 k1_t121).trips), ∀ a, (k1_off1651 v2220 v2222 k1_t121 k1_t122) a + S1x16.size a ≤ S72x256.size a := fun i v2220 v2222 k1_hw13 k1_t121 k1_t122 => k1_hw13.1.2.2.2.2.2.2.2.1 k1_t121 k1_t122
theorem k1_off1652_inb : ∀ (i : grid1.Coords) (v2220 : BitVec 32) (v2222 : BitVec 32) (k1_hw13 : k1_chk13 i v2220 v2222) (k1_t121 : Fin (k1_t121_loop v2220 v2222).trips) (k1_t122 : Fin (k1_t122_loop v2220 v2222 k1_t121).trips), ∀ a, (k1_off1652 v2220 v2222 k1_t121 k1_t122) a + S1x16.size a ≤ S72x256.size a := fun i v2220 v2222 k1_hw13 k1_t121 k1_t122 => k1_hw13.1.2.2.2.2.2.2.2.2.1 k1_t121 k1_t122
theorem k1_off1653_inb : ∀ (i : grid1.Coords) (v2220 : BitVec 32) (v2222 : BitVec 32) (k1_hw13 : k1_chk13 i v2220 v2222) (k1_t121 : Fin (k1_t121_loop v2220 v2222).trips) (k1_t122 : Fin (k1_t122_loop v2220 v2222 k1_t121).trips), ∀ a, (k1_off1653 v2220 v2222 k1_t121 k1_t122) a + S1x16.size a ≤ S72x256.size a := fun i v2220 v2222 k1_hw13 k1_t121 k1_t122 => k1_hw13.1.2.2.2.2.2.2.2.2.2.1 k1_t121 k1_t122
theorem k1_off1654_inb : ∀ (i : grid1.Coords) (v2220 : BitVec 32) (v2222 : BitVec 32) (k1_hw13 : k1_chk13 i v2220 v2222) (k1_t121 : Fin (k1_t121_loop v2220 v2222).trips) (k1_t122 : Fin (k1_t122_loop v2220 v2222 k1_t121).trips), ∀ a, (k1_off1654 v2220 v2222 k1_t121 k1_t122) a + S1x16.size a ≤ S72x256.size a := fun i v2220 v2222 k1_hw13 k1_t121 k1_t122 => k1_hw13.1.2.2.2.2.2.2.2.2.2.2.1 k1_t121 k1_t122
theorem k1_off1655_inb : ∀ (i : grid1.Coords) (v2220 : BitVec 32) (v2222 : BitVec 32) (k1_hw13 : k1_chk13 i v2220 v2222) (k1_t121 : Fin (k1_t121_loop v2220 v2222).trips) (k1_t122 : Fin (k1_t122_loop v2220 v2222 k1_t121).trips), ∀ a, (k1_off1655 v2220 v2222 k1_t121 k1_t122) a + S1x16.size a ≤ S72x256.size a := fun i v2220 v2222 k1_hw13 k1_t121 k1_t122 => k1_hw13.1.2.2.2.2.2.2.2.2.2.2.2.1 k1_t121 k1_t122
theorem k1_off1656_inb : ∀ (i : grid1.Coords) (v2220 : BitVec 32) (v2222 : BitVec 32) (k1_hw13 : k1_chk13 i v2220 v2222) (k1_t121 : Fin (k1_t121_loop v2220 v2222).trips) (k1_t122 : Fin (k1_t122_loop v2220 v2222 k1_t121).trips), ∀ a, (k1_off1656 v2220 v2222 k1_t121 k1_t122) a + S1x16.size a ≤ S72x256.size a := fun i v2220 v2222 k1_hw13 k1_t121 k1_t122 => k1_hw13.1.2.2.2.2.2.2.2.2.2.2.2.2.1 k1_t121 k1_t122
theorem k1_off1657_inb : ∀ (i : grid1.Coords) (v2220 : BitVec 32) (v2222 : BitVec 32) (k1_hw13 : k1_chk13 i v2220 v2222) (k1_t121 : Fin (k1_t121_loop v2220 v2222).trips) (k1_t122 : Fin (k1_t122_loop v2220 v2222 k1_t121).trips), ∀ a, (k1_off1657 v2220 v2222 k1_t121 k1_t122) a + S1x16.size a ≤ S72x256.size a := fun i v2220 v2222 k1_hw13 k1_t121 k1_t122 => k1_hw13.1.2.2.2.2.2.2.2.2.2.2.2.2.2.1 k1_t121 k1_t122
theorem k1_off1658_inb : ∀ (i : grid1.Coords) (v2220 : BitVec 32) (v2222 : BitVec 32) (k1_hw13 : k1_chk13 i v2220 v2222) (k1_t121 : Fin (k1_t121_loop v2220 v2222).trips) (k1_t122 : Fin (k1_t122_loop v2220 v2222 k1_t121).trips), ∀ a, (k1_off1658 v2220 v2222 k1_t121 k1_t122) a + S1x16.size a ≤ S72x256.size a := fun i v2220 v2222 k1_hw13 k1_t121 k1_t122 => k1_hw13.1.2.2.2.2.2.2.2.2.2.2.2.2.2.2.1 k1_t121 k1_t122
theorem k1_off1659_inb : ∀ (i : grid1.Coords) (v2220 : BitVec 32) (v2222 : BitVec 32) (k1_hw13 : k1_chk13 i v2220 v2222) (k1_t121 : Fin (k1_t121_loop v2220 v2222).trips) (k1_t122 : Fin (k1_t122_loop v2220 v2222 k1_t121).trips), ∀ a, (k1_off1659 v2220 v2222 k1_t121 k1_t122) a + S1x16.size a ≤ S72x256.size a := fun i v2220 v2222 k1_hw13 k1_t121 k1_t122 => k1_hw13.1.2.2.2.2.2.2.2.2.2.2.2.2.2.2.2.1 k1_t121 k1_t122
theorem k1_off1660_inb : ∀ (i : grid1.Coords) (v2220 : BitVec 32) (v2222 : BitVec 32) (k1_hw13 : k1_chk13 i v2220 v2222) (k1_t121 : Fin (k1_t121_loop v2220 v2222).trips) (k1_t122 : Fin (k1_t122_loop v2220 v2222 k1_t121).trips), ∀ a, (k1_off1660 v2220 v2222 k1_t121 k1_t122) a + S1x16.size a ≤ S72x256.size a := fun i v2220 v2222 k1_hw13 k1_t121 k1_t122 => k1_hw13.1.2.2.2.2.2.2.2.2.2.2.2.2.2.2.2.2.1 k1_t121 k1_t122
theorem k1_off1661_inb : ∀ (i : grid1.Coords) (v2220 : BitVec 32) (v2222 : BitVec 32) (k1_hw13 : k1_chk13 i v2220 v2222) (k1_t121 : Fin (k1_t121_loop v2220 v2222).trips) (k1_t122 : Fin (k1_t122_loop v2220 v2222 k1_t121).trips), ∀ a, (k1_off1661 v2220 v2222 k1_t121 k1_t122) a + S1x16.size a ≤ S72x256.size a := fun i v2220 v2222 k1_hw13 k1_t121 k1_t122 => k1_hw13.1.2.2.2.2.2.2.2.2.2.2.2.2.2.2.2.2.2.1 k1_t121 k1_t122
theorem k1_off1662_inb : ∀ (i : grid1.Coords) (v2220 : BitVec 32) (v2222 : BitVec 32) (k1_hw13 : k1_chk13 i v2220 v2222) (k1_t121 : Fin (k1_t121_loop v2220 v2222).trips) (k1_t122 : Fin (k1_t122_loop v2220 v2222 k1_t121).trips), ∀ a, (k1_off1662 v2220 v2222 k1_t121 k1_t122) a + S1x16.size a ≤ S72x256.size a := fun i v2220 v2222 k1_hw13 k1_t121 k1_t122 => k1_hw13.1.2.2.2.2.2.2.2.2.2.2.2.2.2.2.2.2.2.2.1 k1_t121 k1_t122
theorem k1_off1663_inb : ∀ (i : grid1.Coords) (v2220 : BitVec 32) (v2222 : BitVec 32) (k1_hw13 : k1_chk13 i v2220 v2222) (k1_t121 : Fin (k1_t121_loop v2220 v2222).trips) (k1_t122 : Fin (k1_t122_loop v2220 v2222 k1_t121).trips), ∀ a, (k1_off1663 v2220 v2222 k1_t121 k1_t122) a + S1x16.size a ≤ S72x256.size a := fun i v2220 v2222 k1_hw13 k1_t121 k1_t122 => k1_hw13.1.2.2.2.2.2.2.2.2.2.2.2.2.2.2.2.2.2.2.2.1 k1_t121 k1_t122
theorem k1_off1664_inb : ∀ (i : grid1.Coords) (v2220 : BitVec 32) (v2222 : BitVec 32) (k1_hw13 : k1_chk13 i v2220 v2222) (k1_t121 : Fin (k1_t121_loop v2220 v2222).trips) (k1_t122 : Fin (k1_t122_loop v2220 v2222 k1_t121).trips), ∀ a, (k1_off1664 v2220 v2222 k1_t121 k1_t122) a + S1x16.size a ≤ S72x256.size a := fun i v2220 v2222 k1_hw13 k1_t121 k1_t122 => k1_hw13.1.2.2.2.2.2.2.2.2.2.2.2.2.2.2.2.2.2.2.2.2.1 k1_t121 k1_t122
theorem k1_t123_ok : ∀ (i : grid1.Coords) (v2220 : BitVec 32) (v2222 : BitVec 32) (k1_hw13 : k1_chk13 i v2220 v2222) (k1_t121 : Fin (k1_t121_loop v2220 v2222).trips), (k1_t123_loop v2220 v2222 k1_t121).OK := fun i v2220 v2222 k1_hw13 k1_t121 => k1_hw13.1.2.2.2.2.2.2.2.2.2.2.2.2.2.2.2.2.2.2.2.2.2.1 k1_t121
theorem k1_off1665_inb : ∀ (i : grid1.Coords) (v2220 : BitVec 32) (v2222 : BitVec 32) (k1_hw13 : k1_chk13 i v2220 v2222) (k1_t121 : Fin (k1_t121_loop v2220 v2222).trips) (k1_t123 : Fin (k1_t123_loop v2220 v2222 k1_t121).trips), ∀ a, (k1_off1665 v2220 v2222 k1_t121 k1_t123) a + S1x16.size a ≤ S72x256.size a := fun i v2220 v2222 k1_hw13 k1_t121 k1_t123 => k1_hw13.1.2.2.2.2.2.2.2.2.2.2.2.2.2.2.2.2.2.2.2.2.2.2.1 k1_t121 k1_t123
theorem k1_off1666_inb : ∀ (i : grid1.Coords) (v2220 : BitVec 32) (v2222 : BitVec 32) (k1_hw13 : k1_chk13 i v2220 v2222) (k1_t121 : Fin (k1_t121_loop v2220 v2222).trips) (k1_t123 : Fin (k1_t123_loop v2220 v2222 k1_t121).trips), ∀ a, (k1_off1666 v2220 v2222 k1_t121 k1_t123) a + S1x16.size a ≤ S72x256.size a := fun i v2220 v2222 k1_hw13 k1_t121 k1_t123 => k1_hw13.1.2.2.2.2.2.2.2.2.2.2.2.2.2.2.2.2.2.2.2.2.2.2.2.1 k1_t121 k1_t123
theorem k1_off1667_inb : ∀ (i : grid1.Coords) (v2220 : BitVec 32) (v2222 : BitVec 32) (k1_hw13 : k1_chk13 i v2220 v2222) (k1_t121 : Fin (k1_t121_loop v2220 v2222).trips) (k1_t123 : Fin (k1_t123_loop v2220 v2222 k1_t121).trips), ∀ a, (k1_off1667 v2220 v2222 k1_t121 k1_t123) a + S1x16.size a ≤ S72x256.size a := fun i v2220 v2222 k1_hw13 k1_t121 k1_t123 => k1_hw13.1.2.2.2.2.2.2.2.2.2.2.2.2.2.2.2.2.2.2.2.2.2.2.2.2.1 k1_t121 k1_t123
theorem k1_off1668_inb : ∀ (i : grid1.Coords) (v2220 : BitVec 32) (v2222 : BitVec 32) (k1_hw13 : k1_chk13 i v2220 v2222) (k1_t121 : Fin (k1_t121_loop v2220 v2222).trips) (k1_t123 : Fin (k1_t123_loop v2220 v2222 k1_t121).trips), ∀ a, (k1_off1668 v2220 v2222 k1_t121 k1_t123) a + S1x16.size a ≤ S72x256.size a := fun i v2220 v2222 k1_hw13 k1_t121 k1_t123 => k1_hw13.1.2.2.2.2.2.2.2.2.2.2.2.2.2.2.2.2.2.2.2.2.2.2.2.2.2.1 k1_t121 k1_t123
theorem k1_off1669_inb : ∀ (i : grid1.Coords) (v2220 : BitVec 32) (v2222 : BitVec 32) (k1_hw13 : k1_chk13 i v2220 v2222) (k1_t121 : Fin (k1_t121_loop v2220 v2222).trips) (k1_t123 : Fin (k1_t123_loop v2220 v2222 k1_t121).trips), ∀ a, (k1_off1669 v2220 v2222 k1_t121 k1_t123) a + S1x16.size a ≤ S72x256.size a := fun i v2220 v2222 k1_hw13 k1_t121 k1_t123 => k1_hw13.1.2.2.2.2.2.2.2.2.2.2.2.2.2.2.2.2.2.2.2.2.2.2.2.2.2.2.1 k1_t121 k1_t123
theorem k1_off1670_inb : ∀ (i : grid1.Coords) (v2220 : BitVec 32) (v2222 : BitVec 32) (k1_hw13 : k1_chk13 i v2220 v2222) (k1_t121 : Fin (k1_t121_loop v2220 v2222).trips) (k1_t123 : Fin (k1_t123_loop v2220 v2222 k1_t121).trips), ∀ a, (k1_off1670 v2220 v2222 k1_t121 k1_t123) a + S1x16.size a ≤ S72x256.size a := fun i v2220 v2222 k1_hw13 k1_t121 k1_t123 => k1_hw13.1.2.2.2.2.2.2.2.2.2.2.2.2.2.2.2.2.2.2.2.2.2.2.2.2.2.2.2.1 k1_t121 k1_t123
theorem k1_off1671_inb : ∀ (i : grid1.Coords) (v2220 : BitVec 32) (v2222 : BitVec 32) (k1_hw13 : k1_chk13 i v2220 v2222) (k1_t121 : Fin (k1_t121_loop v2220 v2222).trips) (k1_t123 : Fin (k1_t123_loop v2220 v2222 k1_t121).trips), ∀ a, (k1_off1671 v2220 v2222 k1_t121 k1_t123) a + S1x16.size a ≤ S72x256.size a := fun i v2220 v2222 k1_hw13 k1_t121 k1_t123 => k1_hw13.1.2.2.2.2.2.2.2.2.2.2.2.2.2.2.2.2.2.2.2.2.2.2.2.2.2.2.2.2.1 k1_t121 k1_t123
theorem k1_off1672_inb : ∀ (i : grid1.Coords) (v2220 : BitVec 32) (v2222 : BitVec 32) (k1_hw13 : k1_chk13 i v2220 v2222) (k1_t121 : Fin (k1_t121_loop v2220 v2222).trips) (k1_t123 : Fin (k1_t123_loop v2220 v2222 k1_t121).trips), ∀ a, (k1_off1672 v2220 v2222 k1_t121 k1_t123) a + S1x16.size a ≤ S72x256.size a := fun i v2220 v2222 k1_hw13 k1_t121 k1_t123 => k1_hw13.1.2.2.2.2.2.2.2.2.2.2.2.2.2.2.2.2.2.2.2.2.2.2.2.2.2.2.2.2.2.1 k1_t121 k1_t123
theorem k1_off1673_inb : ∀ (i : grid1.Coords) (v2220 : BitVec 32) (v2222 : BitVec 32) (k1_hw13 : k1_chk13 i v2220 v2222) (k1_t121 : Fin (k1_t121_loop v2220 v2222).trips) (k1_t123 : Fin (k1_t123_loop v2220 v2222 k1_t121).trips), ∀ a, (k1_off1673 v2220 v2222 k1_t121 k1_t123) a + S1x16.size a ≤ S72x256.size a := fun i v2220 v2222 k1_hw13 k1_t121 k1_t123 => k1_hw13.1.2.2.2.2.2.2.2.2.2.2.2.2.2.2.2.2.2.2.2.2.2.2.2.2.2.2.2.2.2.2.1 k1_t121 k1_t123
theorem k1_off1674_inb : ∀ (i : grid1.Coords) (v2220 : BitVec 32) (v2222 : BitVec 32) (k1_hw13 : k1_chk13 i v2220 v2222) (k1_t121 : Fin (k1_t121_loop v2220 v2222).trips) (k1_t123 : Fin (k1_t123_loop v2220 v2222 k1_t121).trips), ∀ a, (k1_off1674 v2220 v2222 k1_t121 k1_t123) a + S1x16.size a ≤ S72x256.size a := fun i v2220 v2222 k1_hw13 k1_t121 k1_t123 => k1_hw13.1.2.2.2.2.2.2.2.2.2.2.2.2.2.2.2.2.2.2.2.2.2.2.2.2.2.2.2.2.2.2.2 k1_t121 k1_t123
theorem k1_off1675_inb : ∀ (i : grid1.Coords) (v2220 : BitVec 32) (v2222 : BitVec 32) (k1_hw13 : k1_chk13 i v2220 v2222) (k1_t121 : Fin (k1_t121_loop v2220 v2222).trips) (k1_t123 : Fin (k1_t123_loop v2220 v2222 k1_t121).trips), ∀ a, (k1_off1675 v2220 v2222 k1_t121 k1_t123) a + S1x16.size a ≤ S72x256.size a := fun i v2220 v2222 k1_hw13 k1_t121 k1_t123 => k1_hw13.2.1.1 k1_t121 k1_t123
theorem k1_off1676_inb : ∀ (i : grid1.Coords) (v2220 : BitVec 32) (v2222 : BitVec 32) (k1_hw13 : k1_chk13 i v2220 v2222) (k1_t121 : Fin (k1_t121_loop v2220 v2222).trips) (k1_t123 : Fin (k1_t123_loop v2220 v2222 k1_t121).trips), ∀ a, (k1_off1676 v2220 v2222 k1_t121 k1_t123) a + S1x16.size a ≤ S72x256.size a := fun i v2220 v2222 k1_hw13 k1_t121 k1_t123 => k1_hw13.2.1.2.1 k1_t121 k1_t123
theorem k1_off1677_inb : ∀ (i : grid1.Coords) (v2220 : BitVec 32) (v2222 : BitVec 32) (k1_hw13 : k1_chk13 i v2220 v2222) (k1_t121 : Fin (k1_t121_loop v2220 v2222).trips) (k1_t123 : Fin (k1_t123_loop v2220 v2222 k1_t121).trips), ∀ a, (k1_off1677 v2220 v2222 k1_t121 k1_t123) a + S1x16.size a ≤ S72x256.size a := fun i v2220 v2222 k1_hw13 k1_t121 k1_t123 => k1_hw13.2.1.2.2.1 k1_t121 k1_t123
theorem k1_off1678_inb : ∀ (i : grid1.Coords) (v2220 : BitVec 32) (v2222 : BitVec 32) (k1_hw13 : k1_chk13 i v2220 v2222) (k1_t121 : Fin (k1_t121_loop v2220 v2222).trips) (k1_t123 : Fin (k1_t123_loop v2220 v2222 k1_t121).trips), ∀ a, (k1_off1678 v2220 v2222 k1_t121 k1_t123) a + S1x16.size a ≤ S72x256.size a := fun i v2220 v2222 k1_hw13 k1_t121 k1_t123 => k1_hw13.2.1.2.2.2.1 k1_t121 k1_t123
theorem k1_off1679_inb : ∀ (i : grid1.Coords) (v2220 : BitVec 32) (v2222 : BitVec 32) (k1_hw13 : k1_chk13 i v2220 v2222) (k1_t121 : Fin (k1_t121_loop v2220 v2222).trips) (k1_t123 : Fin (k1_t123_loop v2220 v2222 k1_t121).trips), ∀ a, (k1_off1679 v2220 v2222 k1_t121 k1_t123) a + S1x16.size a ≤ S72x256.size a := fun i v2220 v2222 k1_hw13 k1_t121 k1_t123 => k1_hw13.2.1.2.2.2.2.1 k1_t121 k1_t123
theorem k1_off1680_inb : ∀ (i : grid1.Coords) (v2220 : BitVec 32) (v2222 : BitVec 32) (k1_hw13 : k1_chk13 i v2220 v2222) (k1_t121 : Fin (k1_t121_loop v2220 v2222).trips) (k1_t123 : Fin (k1_t123_loop v2220 v2222 k1_t121).trips), ∀ a, (k1_off1680 v2220 v2222 k1_t121 k1_t123) a + S1x16.size a ≤ S72x256.size a := fun i v2220 v2222 k1_hw13 k1_t121 k1_t123 => k1_hw13.2.1.2.2.2.2.2.1 k1_t121 k1_t123
theorem k1_off1681_inb : ∀ (i : grid1.Coords) (v2220 : BitVec 32) (v2222 : BitVec 32) (k1_hw13 : k1_chk13 i v2220 v2222) (k1_t121 : Fin (k1_t121_loop v2220 v2222).trips), ∀ (k1_h112 : k1_cond112 v2220 v2222 k1_t121 = 1#1), ∀ a, (k1_off1681 i v2220 v2222 k1_t121) a + S72x256.size a ≤ S100000x512.size a := fun i v2220 v2222 k1_hw13 k1_t121 k1_h112 => k1_hw13.2.1.2.2.2.2.2.2.1 k1_t121 k1_h112
theorem k1_off1682_inb : ∀ (i : grid1.Coords) (v2220 : BitVec 32) (v2222 : BitVec 32) (k1_hw13 : k1_chk13 i v2220 v2222) (k1_t121 : Fin (k1_t121_loop v2220 v2222).trips), ∀ (k1_h112 : k1_cond112 v2220 v2222 k1_t121 = 1#1), ∀ (k1_h113 : k1_cond113 v2220 v2222 k1_t121 = 1#1), ∀ a, (k1_off1682 i v2220 v2222 k1_t121) a + S72x256.size a ≤ S100000x512.size a := fun i v2220 v2222 k1_hw13 k1_t121 k1_h112 k1_h113 => k1_hw13.2.1.2.2.2.2.2.2.2.1 k1_t121 k1_h112 k1_h113
theorem k1_t124_ok : ∀ (i : grid1.Coords) (v2220 : BitVec 32) (v2222 : BitVec 32) (k1_hw13 : k1_chk13 i v2220 v2222) (k1_t121 : Fin (k1_t121_loop v2220 v2222).trips), (k1_t124_loop v2220 v2222 k1_t121).OK := fun i v2220 v2222 k1_hw13 k1_t121 => k1_hw13.2.1.2.2.2.2.2.2.2.2.1 k1_t121
theorem k1_off1683_inb : ∀ (i : grid1.Coords) (v2220 : BitVec 32) (v2222 : BitVec 32) (k1_hw13 : k1_chk13 i v2220 v2222) (k1_t121 : Fin (k1_t121_loop v2220 v2222).trips) (k1_t124 : Fin (k1_t124_loop v2220 v2222 k1_t121).trips), ∀ a, (k1_off1683 v2220 v2222 k1_t121 k1_t124) a + S1x16.size a ≤ S72x256.size a := fun i v2220 v2222 k1_hw13 k1_t121 k1_t124 => k1_hw13.2.1.2.2.2.2.2.2.2.2.2.1 k1_t121 k1_t124
theorem k1_off1684_inb : ∀ (i : grid1.Coords) (v2220 : BitVec 32) (v2222 : BitVec 32) (k1_hw13 : k1_chk13 i v2220 v2222) (k1_t121 : Fin (k1_t121_loop v2220 v2222).trips) (k1_t124 : Fin (k1_t124_loop v2220 v2222 k1_t121).trips), ∀ a, (k1_off1684 v2220 v2222 k1_t121 k1_t124) a + S1x16.size a ≤ S72x256.size a := fun i v2220 v2222 k1_hw13 k1_t121 k1_t124 => k1_hw13.2.1.2.2.2.2.2.2.2.2.2.2.1 k1_t121 k1_t124
theorem k1_off1685_inb : ∀ (i : grid1.Coords) (v2220 : BitVec 32) (v2222 : BitVec 32) (k1_hw13 : k1_chk13 i v2220 v2222) (k1_t121 : Fin (k1_t121_loop v2220 v2222).trips) (k1_t124 : Fin (k1_t124_loop v2220 v2222 k1_t121).trips), ∀ a, (k1_off1685 v2220 v2222 k1_t121 k1_t124) a + S1x16.size a ≤ S72x256.size a := fun i v2220 v2222 k1_hw13 k1_t121 k1_t124 => k1_hw13.2.1.2.2.2.2.2.2.2.2.2.2.2.1 k1_t121 k1_t124
theorem k1_off1686_inb : ∀ (i : grid1.Coords) (v2220 : BitVec 32) (v2222 : BitVec 32) (k1_hw13 : k1_chk13 i v2220 v2222) (k1_t121 : Fin (k1_t121_loop v2220 v2222).trips) (k1_t124 : Fin (k1_t124_loop v2220 v2222 k1_t121).trips), ∀ a, (k1_off1686 v2220 v2222 k1_t121 k1_t124) a + S1x16.size a ≤ S72x256.size a := fun i v2220 v2222 k1_hw13 k1_t121 k1_t124 => k1_hw13.2.1.2.2.2.2.2.2.2.2.2.2.2.2.1 k1_t121 k1_t124
theorem k1_off1687_inb : ∀ (i : grid1.Coords) (v2220 : BitVec 32) (v2222 : BitVec 32) (k1_hw13 : k1_chk13 i v2220 v2222) (k1_t121 : Fin (k1_t121_loop v2220 v2222).trips) (k1_t124 : Fin (k1_t124_loop v2220 v2222 k1_t121).trips), ∀ a, (k1_off1687 v2220 v2222 k1_t121 k1_t124) a + S1x16.size a ≤ S72x256.size a := fun i v2220 v2222 k1_hw13 k1_t121 k1_t124 => k1_hw13.2.1.2.2.2.2.2.2.2.2.2.2.2.2.2.1 k1_t121 k1_t124
theorem k1_off1688_inb : ∀ (i : grid1.Coords) (v2220 : BitVec 32) (v2222 : BitVec 32) (k1_hw13 : k1_chk13 i v2220 v2222) (k1_t121 : Fin (k1_t121_loop v2220 v2222).trips) (k1_t124 : Fin (k1_t124_loop v2220 v2222 k1_t121).trips), ∀ a, (k1_off1688 v2220 v2222 k1_t121 k1_t124) a + S1x16.size a ≤ S72x256.size a := fun i v2220 v2222 k1_hw13 k1_t121 k1_t124 => k1_hw13.2.1.2.2.2.2.2.2.2.2.2.2.2.2.2.2.1 k1_t121 k1_t124
theorem k1_off1689_inb : ∀ (i : grid1.Coords) (v2220 : BitVec 32) (v2222 : BitVec 32) (k1_hw13 : k1_chk13 i v2220 v2222) (k1_t121 : Fin (k1_t121_loop v2220 v2222).trips) (k1_t124 : Fin (k1_t124_loop v2220 v2222 k1_t121).trips), ∀ a, (k1_off1689 v2220 v2222 k1_t121 k1_t124) a + S1x16.size a ≤ S72x256.size a := fun i v2220 v2222 k1_hw13 k1_t121 k1_t124 => k1_hw13.2.1.2.2.2.2.2.2.2.2.2.2.2.2.2.2.2.1 k1_t121 k1_t124
theorem k1_off1690_inb : ∀ (i : grid1.Coords) (v2220 : BitVec 32) (v2222 : BitVec 32) (k1_hw13 : k1_chk13 i v2220 v2222) (k1_t121 : Fin (k1_t121_loop v2220 v2222).trips) (k1_t124 : Fin (k1_t124_loop v2220 v2222 k1_t121).trips), ∀ a, (k1_off1690 v2220 v2222 k1_t121 k1_t124) a + S1x16.size a ≤ S72x256.size a := fun i v2220 v2222 k1_hw13 k1_t121 k1_t124 => k1_hw13.2.1.2.2.2.2.2.2.2.2.2.2.2.2.2.2.2.2.1 k1_t121 k1_t124
theorem k1_off1691_inb : ∀ (i : grid1.Coords) (v2220 : BitVec 32) (v2222 : BitVec 32) (k1_hw13 : k1_chk13 i v2220 v2222) (k1_t121 : Fin (k1_t121_loop v2220 v2222).trips) (k1_t124 : Fin (k1_t124_loop v2220 v2222 k1_t121).trips), ∀ a, (k1_off1691 v2220 v2222 k1_t121 k1_t124) a + S1x16.size a ≤ S72x256.size a := fun i v2220 v2222 k1_hw13 k1_t121 k1_t124 => k1_hw13.2.1.2.2.2.2.2.2.2.2.2.2.2.2.2.2.2.2.2.1 k1_t121 k1_t124
theorem k1_off1692_inb : ∀ (i : grid1.Coords) (v2220 : BitVec 32) (v2222 : BitVec 32) (k1_hw13 : k1_chk13 i v2220 v2222) (k1_t121 : Fin (k1_t121_loop v2220 v2222).trips) (k1_t124 : Fin (k1_t124_loop v2220 v2222 k1_t121).trips), ∀ a, (k1_off1692 v2220 v2222 k1_t121 k1_t124) a + S1x16.size a ≤ S72x256.size a := fun i v2220 v2222 k1_hw13 k1_t121 k1_t124 => k1_hw13.2.1.2.2.2.2.2.2.2.2.2.2.2.2.2.2.2.2.2.2.1 k1_t121 k1_t124
theorem k1_off1693_inb : ∀ (i : grid1.Coords) (v2220 : BitVec 32) (v2222 : BitVec 32) (k1_hw13 : k1_chk13 i v2220 v2222) (k1_t121 : Fin (k1_t121_loop v2220 v2222).trips) (k1_t124 : Fin (k1_t124_loop v2220 v2222 k1_t121).trips), ∀ a, (k1_off1693 v2220 v2222 k1_t121 k1_t124) a + S1x16.size a ≤ S72x256.size a := fun i v2220 v2222 k1_hw13 k1_t121 k1_t124 => k1_hw13.2.1.2.2.2.2.2.2.2.2.2.2.2.2.2.2.2.2.2.2.2.1 k1_t121 k1_t124
theorem k1_off1694_inb : ∀ (i : grid1.Coords) (v2220 : BitVec 32) (v2222 : BitVec 32) (k1_hw13 : k1_chk13 i v2220 v2222) (k1_t121 : Fin (k1_t121_loop v2220 v2222).trips) (k1_t124 : Fin (k1_t124_loop v2220 v2222 k1_t121).trips), ∀ a, (k1_off1694 v2220 v2222 k1_t121 k1_t124) a + S1x16.size a ≤ S72x256.size a := fun i v2220 v2222 k1_hw13 k1_t121 k1_t124 => k1_hw13.2.1.2.2.2.2.2.2.2.2.2.2.2.2.2.2.2.2.2.2.2.2.1 k1_t121 k1_t124
theorem k1_off1695_inb : ∀ (i : grid1.Coords) (v2220 : BitVec 32) (v2222 : BitVec 32) (k1_hw13 : k1_chk13 i v2220 v2222) (k1_t121 : Fin (k1_t121_loop v2220 v2222).trips) (k1_t124 : Fin (k1_t124_loop v2220 v2222 k1_t121).trips), ∀ a, (k1_off1695 v2220 v2222 k1_t121 k1_t124) a + S1x16.size a ≤ S72x256.size a := fun i v2220 v2222 k1_hw13 k1_t121 k1_t124 => k1_hw13.2.1.2.2.2.2.2.2.2.2.2.2.2.2.2.2.2.2.2.2.2.2.2.1 k1_t121 k1_t124
theorem k1_off1696_inb : ∀ (i : grid1.Coords) (v2220 : BitVec 32) (v2222 : BitVec 32) (k1_hw13 : k1_chk13 i v2220 v2222) (k1_t121 : Fin (k1_t121_loop v2220 v2222).trips) (k1_t124 : Fin (k1_t124_loop v2220 v2222 k1_t121).trips), ∀ a, (k1_off1696 v2220 v2222 k1_t121 k1_t124) a + S1x16.size a ≤ S72x256.size a := fun i v2220 v2222 k1_hw13 k1_t121 k1_t124 => k1_hw13.2.1.2.2.2.2.2.2.2.2.2.2.2.2.2.2.2.2.2.2.2.2.2.2.1 k1_t121 k1_t124
theorem k1_off1697_inb : ∀ (i : grid1.Coords) (v2220 : BitVec 32) (v2222 : BitVec 32) (k1_hw13 : k1_chk13 i v2220 v2222) (k1_t121 : Fin (k1_t121_loop v2220 v2222).trips) (k1_t124 : Fin (k1_t124_loop v2220 v2222 k1_t121).trips), ∀ a, (k1_off1697 v2220 v2222 k1_t121 k1_t124) a + S1x16.size a ≤ S72x256.size a := fun i v2220 v2222 k1_hw13 k1_t121 k1_t124 => k1_hw13.2.1.2.2.2.2.2.2.2.2.2.2.2.2.2.2.2.2.2.2.2.2.2.2.2.1 k1_t121 k1_t124
theorem k1_off1698_inb : ∀ (i : grid1.Coords) (v2220 : BitVec 32) (v2222 : BitVec 32) (k1_hw13 : k1_chk13 i v2220 v2222) (k1_t121 : Fin (k1_t121_loop v2220 v2222).trips) (k1_t124 : Fin (k1_t124_loop v2220 v2222 k1_t121).trips), ∀ a, (k1_off1698 v2220 v2222 k1_t121 k1_t124) a + S1x16.size a ≤ S72x256.size a := fun i v2220 v2222 k1_hw13 k1_t121 k1_t124 => k1_hw13.2.1.2.2.2.2.2.2.2.2.2.2.2.2.2.2.2.2.2.2.2.2.2.2.2.2.1 k1_t121 k1_t124
theorem k1_t125_ok : ∀ (i : grid1.Coords) (v2220 : BitVec 32) (v2222 : BitVec 32) (k1_hw13 : k1_chk13 i v2220 v2222) (k1_t121 : Fin (k1_t121_loop v2220 v2222).trips), (k1_t125_loop v2220 v2222 k1_t121).OK := fun i v2220 v2222 k1_hw13 k1_t121 => k1_hw13.2.1.2.2.2.2.2.2.2.2.2.2.2.2.2.2.2.2.2.2.2.2.2.2.2.2.2.1 k1_t121
theorem k1_off1699_inb : ∀ (i : grid1.Coords) (v2220 : BitVec 32) (v2222 : BitVec 32) (k1_hw13 : k1_chk13 i v2220 v2222) (k1_t121 : Fin (k1_t121_loop v2220 v2222).trips) (k1_t125 : Fin (k1_t125_loop v2220 v2222 k1_t121).trips), ∀ a, (k1_off1699 v2220 v2222 k1_t121 k1_t125) a + S1x16.size a ≤ S72x256.size a := fun i v2220 v2222 k1_hw13 k1_t121 k1_t125 => k1_hw13.2.1.2.2.2.2.2.2.2.2.2.2.2.2.2.2.2.2.2.2.2.2.2.2.2.2.2.2.1 k1_t121 k1_t125
theorem k1_off1700_inb : ∀ (i : grid1.Coords) (v2220 : BitVec 32) (v2222 : BitVec 32) (k1_hw13 : k1_chk13 i v2220 v2222) (k1_t121 : Fin (k1_t121_loop v2220 v2222).trips) (k1_t125 : Fin (k1_t125_loop v2220 v2222 k1_t121).trips), ∀ a, (k1_off1700 v2220 v2222 k1_t121 k1_t125) a + S1x16.size a ≤ S72x256.size a := fun i v2220 v2222 k1_hw13 k1_t121 k1_t125 => k1_hw13.2.1.2.2.2.2.2.2.2.2.2.2.2.2.2.2.2.2.2.2.2.2.2.2.2.2.2.2.2.1 k1_t121 k1_t125
theorem k1_off1701_inb : ∀ (i : grid1.Coords) (v2220 : BitVec 32) (v2222 : BitVec 32) (k1_hw13 : k1_chk13 i v2220 v2222) (k1_t121 : Fin (k1_t121_loop v2220 v2222).trips) (k1_t125 : Fin (k1_t125_loop v2220 v2222 k1_t121).trips), ∀ a, (k1_off1701 v2220 v2222 k1_t121 k1_t125) a + S1x16.size a ≤ S72x256.size a := fun i v2220 v2222 k1_hw13 k1_t121 k1_t125 => k1_hw13.2.1.2.2.2.2.2.2.2.2.2.2.2.2.2.2.2.2.2.2.2.2.2.2.2.2.2.2.2.2.1 k1_t121 k1_t125
theorem k1_off1702_inb : ∀ (i : grid1.Coords) (v2220 : BitVec 32) (v2222 : BitVec 32) (k1_hw13 : k1_chk13 i v2220 v2222) (k1_t121 : Fin (k1_t121_loop v2220 v2222).trips) (k1_t125 : Fin (k1_t125_loop v2220 v2222 k1_t121).trips), ∀ a, (k1_off1702 v2220 v2222 k1_t121 k1_t125) a + S1x16.size a ≤ S72x256.size a := fun i v2220 v2222 k1_hw13 k1_t121 k1_t125 => k1_hw13.2.1.2.2.2.2.2.2.2.2.2.2.2.2.2.2.2.2.2.2.2.2.2.2.2.2.2.2.2.2.2.1 k1_t121 k1_t125
theorem k1_off1703_inb : ∀ (i : grid1.Coords) (v2220 : BitVec 32) (v2222 : BitVec 32) (k1_hw13 : k1_chk13 i v2220 v2222) (k1_t121 : Fin (k1_t121_loop v2220 v2222).trips) (k1_t125 : Fin (k1_t125_loop v2220 v2222 k1_t121).trips), ∀ a, (k1_off1703 v2220 v2222 k1_t121 k1_t125) a + S1x16.size a ≤ S72x256.size a := fun i v2220 v2222 k1_hw13 k1_t121 k1_t125 => k1_hw13.2.1.2.2.2.2.2.2.2.2.2.2.2.2.2.2.2.2.2.2.2.2.2.2.2.2.2.2.2.2.2.2.1 k1_t121 k1_t125
theorem k1_off1704_inb : ∀ (i : grid1.Coords) (v2220 : BitVec 32) (v2222 : BitVec 32) (k1_hw13 : k1_chk13 i v2220 v2222) (k1_t121 : Fin (k1_t121_loop v2220 v2222).trips) (k1_t125 : Fin (k1_t125_loop v2220 v2222 k1_t121).trips), ∀ a, (k1_off1704 v2220 v2222 k1_t121 k1_t125) a + S1x16.size a ≤ S72x256.size a := fun i v2220 v2222 k1_hw13 k1_t121 k1_t125 => k1_hw13.2.1.2.2.2.2.2.2.2.2.2.2.2.2.2.2.2.2.2.2.2.2.2.2.2.2.2.2.2.2.2.2.2 k1_t121 k1_t125
theorem k1_off1705_inb : ∀ (i : grid1.Coords) (v2220 : BitVec 32) (v2222 : BitVec 32) (k1_hw13 : k1_chk13 i v2220 v2222) (k1_t121 : Fin (k1_t121_loop v2220 v2222).trips) (k1_t125 : Fin (k1_t125_loop v2220 v2222 k1_t121).trips), ∀ a, (k1_off1705 v2220 v2222 k1_t121 k1_t125) a + S1x16.size a ≤ S72x256.size a := fun i v2220 v2222 k1_hw13 k1_t121 k1_t125 => k1_hw13.2.2.1.1 k1_t121 k1_t125
theorem k1_off1706_inb : ∀ (i : grid1.Coords) (v2220 : BitVec 32) (v2222 : BitVec 32) (k1_hw13 : k1_chk13 i v2220 v2222) (k1_t121 : Fin (k1_t121_loop v2220 v2222).trips) (k1_t125 : Fin (k1_t125_loop v2220 v2222 k1_t121).trips), ∀ a, (k1_off1706 v2220 v2222 k1_t121 k1_t125) a + S1x16.size a ≤ S72x256.size a := fun i v2220 v2222 k1_hw13 k1_t121 k1_t125 => k1_hw13.2.2.1.2.1 k1_t121 k1_t125
theorem k1_off1707_inb : ∀ (i : grid1.Coords) (v2220 : BitVec 32) (v2222 : BitVec 32) (k1_hw13 : k1_chk13 i v2220 v2222) (k1_t121 : Fin (k1_t121_loop v2220 v2222).trips) (k1_t125 : Fin (k1_t125_loop v2220 v2222 k1_t121).trips), ∀ a, (k1_off1707 v2220 v2222 k1_t121 k1_t125) a + S1x16.size a ≤ S72x256.size a := fun i v2220 v2222 k1_hw13 k1_t121 k1_t125 => k1_hw13.2.2.1.2.2.1 k1_t121 k1_t125
theorem k1_off1708_inb : ∀ (i : grid1.Coords) (v2220 : BitVec 32) (v2222 : BitVec 32) (k1_hw13 : k1_chk13 i v2220 v2222) (k1_t121 : Fin (k1_t121_loop v2220 v2222).trips) (k1_t125 : Fin (k1_t125_loop v2220 v2222 k1_t121).trips), ∀ a, (k1_off1708 v2220 v2222 k1_t121 k1_t125) a + S1x16.size a ≤ S72x256.size a := fun i v2220 v2222 k1_hw13 k1_t121 k1_t125 => k1_hw13.2.2.1.2.2.2.1 k1_t121 k1_t125
theorem k1_off1709_inb : ∀ (i : grid1.Coords) (v2220 : BitVec 32) (v2222 : BitVec 32) (k1_hw13 : k1_chk13 i v2220 v2222) (k1_t121 : Fin (k1_t121_loop v2220 v2222).trips) (k1_t125 : Fin (k1_t125_loop v2220 v2222 k1_t121).trips), ∀ a, (k1_off1709 v2220 v2222 k1_t121 k1_t125) a + S1x16.size a ≤ S72x256.size a := fun i v2220 v2222 k1_hw13 k1_t121 k1_t125 => k1_hw13.2.2.1.2.2.2.2.1 k1_t121 k1_t125
theorem k1_off1710_inb : ∀ (i : grid1.Coords) (v2220 : BitVec 32) (v2222 : BitVec 32) (k1_hw13 : k1_chk13 i v2220 v2222) (k1_t121 : Fin (k1_t121_loop v2220 v2222).trips) (k1_t125 : Fin (k1_t125_loop v2220 v2222 k1_t121).trips), ∀ a, (k1_off1710 v2220 v2222 k1_t121 k1_t125) a + S1x16.size a ≤ S72x256.size a := fun i v2220 v2222 k1_hw13 k1_t121 k1_t125 => k1_hw13.2.2.1.2.2.2.2.2.1 k1_t121 k1_t125
theorem k1_off1711_inb : ∀ (i : grid1.Coords) (v2220 : BitVec 32) (v2222 : BitVec 32) (k1_hw13 : k1_chk13 i v2220 v2222) (k1_t121 : Fin (k1_t121_loop v2220 v2222).trips) (k1_t125 : Fin (k1_t125_loop v2220 v2222 k1_t121).trips), ∀ a, (k1_off1711 v2220 v2222 k1_t121 k1_t125) a + S1x16.size a ≤ S72x256.size a := fun i v2220 v2222 k1_hw13 k1_t121 k1_t125 => k1_hw13.2.2.1.2.2.2.2.2.2.1 k1_t121 k1_t125
theorem k1_off1712_inb : ∀ (i : grid1.Coords) (v2220 : BitVec 32) (v2222 : BitVec 32) (k1_hw13 : k1_chk13 i v2220 v2222) (k1_t121 : Fin (k1_t121_loop v2220 v2222).trips) (k1_t125 : Fin (k1_t125_loop v2220 v2222 k1_t121).trips), ∀ a, (k1_off1712 v2220 v2222 k1_t121 k1_t125) a + S1x16.size a ≤ S72x256.size a := fun i v2220 v2222 k1_hw13 k1_t121 k1_t125 => k1_hw13.2.2.1.2.2.2.2.2.2.2.1 k1_t121 k1_t125
theorem k1_off1713_inb : ∀ (i : grid1.Coords) (v2220 : BitVec 32) (v2222 : BitVec 32) (k1_hw13 : k1_chk13 i v2220 v2222) (k1_t121 : Fin (k1_t121_loop v2220 v2222).trips) (k1_t125 : Fin (k1_t125_loop v2220 v2222 k1_t121).trips), ∀ a, (k1_off1713 v2220 v2222 k1_t121 k1_t125) a + S1x16.size a ≤ S72x256.size a := fun i v2220 v2222 k1_hw13 k1_t121 k1_t125 => k1_hw13.2.2.1.2.2.2.2.2.2.2.2.1 k1_t121 k1_t125
theorem k1_off1714_inb : ∀ (i : grid1.Coords) (v2220 : BitVec 32) (v2222 : BitVec 32) (k1_hw13 : k1_chk13 i v2220 v2222) (k1_t121 : Fin (k1_t121_loop v2220 v2222).trips) (k1_t125 : Fin (k1_t125_loop v2220 v2222 k1_t121).trips), ∀ a, (k1_off1714 v2220 v2222 k1_t121 k1_t125) a + S1x16.size a ≤ S72x256.size a := fun i v2220 v2222 k1_hw13 k1_t121 k1_t125 => k1_hw13.2.2.1.2.2.2.2.2.2.2.2.2.1 k1_t121 k1_t125
theorem k1_t126_ok : ∀ (i : grid1.Coords) (v2220 : BitVec 32) (v2222 : BitVec 32) (k1_hw13 : k1_chk13 i v2220 v2222), (k1_t126_loop v2220 v2222).OK := fun i v2220 v2222 k1_hw13 => k1_hw13.2.2.1.2.2.2.2.2.2.2.2.2.2.1
theorem k1_off1715_inb : ∀ (i : grid1.Coords) (v2220 : BitVec 32) (v2222 : BitVec 32) (k1_hw13 : k1_chk13 i v2220 v2222) (k1_t126 : Fin (k1_t126_loop v2220 v2222).trips), ∀ (k1_h114 : k1_cond114 v2220 v2222 k1_t126 = 1#1), ∀ a, (k1_off1715 i v2220 v2222 k1_t126) a + S72x256.size a ≤ S100000x512.size a := fun i v2220 v2222 k1_hw13 k1_t126 k1_h114 => k1_hw13.2.2.1.2.2.2.2.2.2.2.2.2.2.2.1 k1_t126 k1_h114
theorem k1_off1716_inb : ∀ (i : grid1.Coords) (v2220 : BitVec 32) (v2222 : BitVec 32) (k1_hw13 : k1_chk13 i v2220 v2222) (k1_t126 : Fin (k1_t126_loop v2220 v2222).trips), ∀ (k1_h114 : k1_cond114 v2220 v2222 k1_t126 = 1#1), ∀ (k1_h115 : k1_cond115 v2220 v2222 k1_t126 = 1#1), ∀ a, (k1_off1716 i v2220 v2222 k1_t126) a + S72x256.size a ≤ S100000x512.size a := fun i v2220 v2222 k1_hw13 k1_t126 k1_h114 k1_h115 => k1_hw13.2.2.1.2.2.2.2.2.2.2.2.2.2.2.2.1 k1_t126 k1_h114 k1_h115
theorem k1_t127_ok : ∀ (i : grid1.Coords) (v2220 : BitVec 32) (v2222 : BitVec 32) (k1_hw13 : k1_chk13 i v2220 v2222) (k1_t126 : Fin (k1_t126_loop v2220 v2222).trips), (k1_t127_loop v2220 v2222 k1_t126).OK := fun i v2220 v2222 k1_hw13 k1_t126 => k1_hw13.2.2.1.2.2.2.2.2.2.2.2.2.2.2.2.2.1 k1_t126
theorem k1_off1717_inb : ∀ (i : grid1.Coords) (v2220 : BitVec 32) (v2222 : BitVec 32) (k1_hw13 : k1_chk13 i v2220 v2222) (k1_t126 : Fin (k1_t126_loop v2220 v2222).trips) (k1_t127 : Fin (k1_t127_loop v2220 v2222 k1_t126).trips), ∀ a, (k1_off1717 v2220 v2222 k1_t126 k1_t127) a + S1x16.size a ≤ S72x256.size a := fun i v2220 v2222 k1_hw13 k1_t126 k1_t127 => k1_hw13.2.2.1.2.2.2.2.2.2.2.2.2.2.2.2.2.2.1 k1_t126 k1_t127
theorem k1_off1718_inb : ∀ (i : grid1.Coords) (v2220 : BitVec 32) (v2222 : BitVec 32) (k1_hw13 : k1_chk13 i v2220 v2222) (k1_t126 : Fin (k1_t126_loop v2220 v2222).trips) (k1_t127 : Fin (k1_t127_loop v2220 v2222 k1_t126).trips), ∀ a, (k1_off1718 v2220 v2222 k1_t126 k1_t127) a + S1x16.size a ≤ S72x256.size a := fun i v2220 v2222 k1_hw13 k1_t126 k1_t127 => k1_hw13.2.2.1.2.2.2.2.2.2.2.2.2.2.2.2.2.2.2.1 k1_t126 k1_t127
theorem k1_off1719_inb : ∀ (i : grid1.Coords) (v2220 : BitVec 32) (v2222 : BitVec 32) (k1_hw13 : k1_chk13 i v2220 v2222) (k1_t126 : Fin (k1_t126_loop v2220 v2222).trips) (k1_t127 : Fin (k1_t127_loop v2220 v2222 k1_t126).trips), ∀ a, (k1_off1719 v2220 v2222 k1_t126 k1_t127) a + S1x16.size a ≤ S72x256.size a := fun i v2220 v2222 k1_hw13 k1_t126 k1_t127 => k1_hw13.2.2.1.2.2.2.2.2.2.2.2.2.2.2.2.2.2.2.2.1 k1_t126 k1_t127
theorem k1_off1720_inb : ∀ (i : grid1.Coords) (v2220 : BitVec 32) (v2222 : BitVec 32) (k1_hw13 : k1_chk13 i v2220 v2222) (k1_t126 : Fin (k1_t126_loop v2220 v2222).trips) (k1_t127 : Fin (k1_t127_loop v2220 v2222 k1_t126).trips), ∀ a, (k1_off1720 v2220 v2222 k1_t126 k1_t127) a + S1x16.size a ≤ S72x256.size a := fun i v2220 v2222 k1_hw13 k1_t126 k1_t127 => k1_hw13.2.2.1.2.2.2.2.2.2.2.2.2.2.2.2.2.2.2.2.2.1 k1_t126 k1_t127
theorem k1_off1721_inb : ∀ (i : grid1.Coords) (v2220 : BitVec 32) (v2222 : BitVec 32) (k1_hw13 : k1_chk13 i v2220 v2222) (k1_t126 : Fin (k1_t126_loop v2220 v2222).trips) (k1_t127 : Fin (k1_t127_loop v2220 v2222 k1_t126).trips), ∀ a, (k1_off1721 v2220 v2222 k1_t126 k1_t127) a + S1x16.size a ≤ S72x256.size a := fun i v2220 v2222 k1_hw13 k1_t126 k1_t127 => k1_hw13.2.2.1.2.2.2.2.2.2.2.2.2.2.2.2.2.2.2.2.2.2.1 k1_t126 k1_t127
theorem k1_off1722_inb : ∀ (i : grid1.Coords) (v2220 : BitVec 32) (v2222 : BitVec 32) (k1_hw13 : k1_chk13 i v2220 v2222) (k1_t126 : Fin (k1_t126_loop v2220 v2222).trips) (k1_t127 : Fin (k1_t127_loop v2220 v2222 k1_t126).trips), ∀ a, (k1_off1722 v2220 v2222 k1_t126 k1_t127) a + S1x16.size a ≤ S72x256.size a := fun i v2220 v2222 k1_hw13 k1_t126 k1_t127 => k1_hw13.2.2.1.2.2.2.2.2.2.2.2.2.2.2.2.2.2.2.2.2.2.2.1 k1_t126 k1_t127
theorem k1_off1723_inb : ∀ (i : grid1.Coords) (v2220 : BitVec 32) (v2222 : BitVec 32) (k1_hw13 : k1_chk13 i v2220 v2222) (k1_t126 : Fin (k1_t126_loop v2220 v2222).trips) (k1_t127 : Fin (k1_t127_loop v2220 v2222 k1_t126).trips), ∀ a, (k1_off1723 v2220 v2222 k1_t126 k1_t127) a + S1x16.size a ≤ S72x256.size a := fun i v2220 v2222 k1_hw13 k1_t126 k1_t127 => k1_hw13.2.2.1.2.2.2.2.2.2.2.2.2.2.2.2.2.2.2.2.2.2.2.2.1 k1_t126 k1_t127
theorem k1_off1724_inb : ∀ (i : grid1.Coords) (v2220 : BitVec 32) (v2222 : BitVec 32) (k1_hw13 : k1_chk13 i v2220 v2222) (k1_t126 : Fin (k1_t126_loop v2220 v2222).trips) (k1_t127 : Fin (k1_t127_loop v2220 v2222 k1_t126).trips), ∀ a, (k1_off1724 v2220 v2222 k1_t126 k1_t127) a + S1x16.size a ≤ S72x256.size a := fun i v2220 v2222 k1_hw13 k1_t126 k1_t127 => k1_hw13.2.2.1.2.2.2.2.2.2.2.2.2.2.2.2.2.2.2.2.2.2.2.2.2.1 k1_t126 k1_t127
theorem k1_off1725_inb : ∀ (i : grid1.Coords) (v2220 : BitVec 32) (v2222 : BitVec 32) (k1_hw13 : k1_chk13 i v2220 v2222) (k1_t126 : Fin (k1_t126_loop v2220 v2222).trips) (k1_t127 : Fin (k1_t127_loop v2220 v2222 k1_t126).trips), ∀ a, (k1_off1725 v2220 v2222 k1_t126 k1_t127) a + S1x16.size a ≤ S72x256.size a := fun i v2220 v2222 k1_hw13 k1_t126 k1_t127 => k1_hw13.2.2.1.2.2.2.2.2.2.2.2.2.2.2.2.2.2.2.2.2.2.2.2.2.2.1 k1_t126 k1_t127
theorem k1_off1726_inb : ∀ (i : grid1.Coords) (v2220 : BitVec 32) (v2222 : BitVec 32) (k1_hw13 : k1_chk13 i v2220 v2222) (k1_t126 : Fin (k1_t126_loop v2220 v2222).trips) (k1_t127 : Fin (k1_t127_loop v2220 v2222 k1_t126).trips), ∀ a, (k1_off1726 v2220 v2222 k1_t126 k1_t127) a + S1x16.size a ≤ S72x256.size a := fun i v2220 v2222 k1_hw13 k1_t126 k1_t127 => k1_hw13.2.2.1.2.2.2.2.2.2.2.2.2.2.2.2.2.2.2.2.2.2.2.2.2.2.2.1 k1_t126 k1_t127
theorem k1_off1727_inb : ∀ (i : grid1.Coords) (v2220 : BitVec 32) (v2222 : BitVec 32) (k1_hw13 : k1_chk13 i v2220 v2222) (k1_t126 : Fin (k1_t126_loop v2220 v2222).trips) (k1_t127 : Fin (k1_t127_loop v2220 v2222 k1_t126).trips), ∀ a, (k1_off1727 v2220 v2222 k1_t126 k1_t127) a + S1x16.size a ≤ S72x256.size a := fun i v2220 v2222 k1_hw13 k1_t126 k1_t127 => k1_hw13.2.2.1.2.2.2.2.2.2.2.2.2.2.2.2.2.2.2.2.2.2.2.2.2.2.2.2.1 k1_t126 k1_t127
theorem k1_off1728_inb : ∀ (i : grid1.Coords) (v2220 : BitVec 32) (v2222 : BitVec 32) (k1_hw13 : k1_chk13 i v2220 v2222) (k1_t126 : Fin (k1_t126_loop v2220 v2222).trips) (k1_t127 : Fin (k1_t127_loop v2220 v2222 k1_t126).trips), ∀ a, (k1_off1728 v2220 v2222 k1_t126 k1_t127) a + S1x16.size a ≤ S72x256.size a := fun i v2220 v2222 k1_hw13 k1_t126 k1_t127 => k1_hw13.2.2.1.2.2.2.2.2.2.2.2.2.2.2.2.2.2.2.2.2.2.2.2.2.2.2.2.2.1 k1_t126 k1_t127
theorem k1_off1729_inb : ∀ (i : grid1.Coords) (v2220 : BitVec 32) (v2222 : BitVec 32) (k1_hw13 : k1_chk13 i v2220 v2222) (k1_t126 : Fin (k1_t126_loop v2220 v2222).trips) (k1_t127 : Fin (k1_t127_loop v2220 v2222 k1_t126).trips), ∀ a, (k1_off1729 v2220 v2222 k1_t126 k1_t127) a + S1x16.size a ≤ S72x256.size a := fun i v2220 v2222 k1_hw13 k1_t126 k1_t127 => k1_hw13.2.2.1.2.2.2.2.2.2.2.2.2.2.2.2.2.2.2.2.2.2.2.2.2.2.2.2.2.2.1 k1_t126 k1_t127
theorem k1_off1730_inb : ∀ (i : grid1.Coords) (v2220 : BitVec 32) (v2222 : BitVec 32) (k1_hw13 : k1_chk13 i v2220 v2222) (k1_t126 : Fin (k1_t126_loop v2220 v2222).trips) (k1_t127 : Fin (k1_t127_loop v2220 v2222 k1_t126).trips), ∀ a, (k1_off1730 v2220 v2222 k1_t126 k1_t127) a + S1x16.size a ≤ S72x256.size a := fun i v2220 v2222 k1_hw13 k1_t126 k1_t127 => k1_hw13.2.2.1.2.2.2.2.2.2.2.2.2.2.2.2.2.2.2.2.2.2.2.2.2.2.2.2.2.2.2.1 k1_t126 k1_t127
theorem k1_off1731_inb : ∀ (i : grid1.Coords) (v2220 : BitVec 32) (v2222 : BitVec 32) (k1_hw13 : k1_chk13 i v2220 v2222) (k1_t126 : Fin (k1_t126_loop v2220 v2222).trips) (k1_t127 : Fin (k1_t127_loop v2220 v2222 k1_t126).trips), ∀ a, (k1_off1731 v2220 v2222 k1_t126 k1_t127) a + S1x16.size a ≤ S72x256.size a := fun i v2220 v2222 k1_hw13 k1_t126 k1_t127 => k1_hw13.2.2.1.2.2.2.2.2.2.2.2.2.2.2.2.2.2.2.2.2.2.2.2.2.2.2.2.2.2.2.2.1 k1_t126 k1_t127
theorem k1_off1732_inb : ∀ (i : grid1.Coords) (v2220 : BitVec 32) (v2222 : BitVec 32) (k1_hw13 : k1_chk13 i v2220 v2222) (k1_t126 : Fin (k1_t126_loop v2220 v2222).trips) (k1_t127 : Fin (k1_t127_loop v2220 v2222 k1_t126).trips), ∀ a, (k1_off1732 v2220 v2222 k1_t126 k1_t127) a + S1x16.size a ≤ S72x256.size a := fun i v2220 v2222 k1_hw13 k1_t126 k1_t127 => k1_hw13.2.2.1.2.2.2.2.2.2.2.2.2.2.2.2.2.2.2.2.2.2.2.2.2.2.2.2.2.2.2.2.2.1 k1_t126 k1_t127
theorem k1_t128_ok : ∀ (i : grid1.Coords) (v2220 : BitVec 32) (v2222 : BitVec 32) (k1_hw13 : k1_chk13 i v2220 v2222) (k1_t126 : Fin (k1_t126_loop v2220 v2222).trips), (k1_t128_loop v2220 v2222 k1_t126).OK := fun i v2220 v2222 k1_hw13 k1_t126 => k1_hw13.2.2.1.2.2.2.2.2.2.2.2.2.2.2.2.2.2.2.2.2.2.2.2.2.2.2.2.2.2.2.2.2.2.1 k1_t126
theorem k1_off1733_inb : ∀ (i : grid1.Coords) (v2220 : BitVec 32) (v2222 : BitVec 32) (k1_hw13 : k1_chk13 i v2220 v2222) (k1_t126 : Fin (k1_t126_loop v2220 v2222).trips) (k1_t128 : Fin (k1_t128_loop v2220 v2222 k1_t126).trips), ∀ a, (k1_off1733 v2220 v2222 k1_t126 k1_t128) a + S1x16.size a ≤ S72x256.size a := fun i v2220 v2222 k1_hw13 k1_t126 k1_t128 => k1_hw13.2.2.1.2.2.2.2.2.2.2.2.2.2.2.2.2.2.2.2.2.2.2.2.2.2.2.2.2.2.2.2.2.2.2 k1_t126 k1_t128
theorem k1_off1734_inb : ∀ (i : grid1.Coords) (v2220 : BitVec 32) (v2222 : BitVec 32) (k1_hw13 : k1_chk13 i v2220 v2222) (k1_t126 : Fin (k1_t126_loop v2220 v2222).trips) (k1_t128 : Fin (k1_t128_loop v2220 v2222 k1_t126).trips), ∀ a, (k1_off1734 v2220 v2222 k1_t126 k1_t128) a + S1x16.size a ≤ S72x256.size a := fun i v2220 v2222 k1_hw13 k1_t126 k1_t128 => k1_hw13.2.2.2.1.1 k1_t126 k1_t128
theorem k1_off1735_inb : ∀ (i : grid1.Coords) (v2220 : BitVec 32) (v2222 : BitVec 32) (k1_hw13 : k1_chk13 i v2220 v2222) (k1_t126 : Fin (k1_t126_loop v2220 v2222).trips) (k1_t128 : Fin (k1_t128_loop v2220 v2222 k1_t126).trips), ∀ a, (k1_off1735 v2220 v2222 k1_t126 k1_t128) a + S1x16.size a ≤ S72x256.size a := fun i v2220 v2222 k1_hw13 k1_t126 k1_t128 => k1_hw13.2.2.2.1.2.1 k1_t126 k1_t128
theorem k1_off1736_inb : ∀ (i : grid1.Coords) (v2220 : BitVec 32) (v2222 : BitVec 32) (k1_hw13 : k1_chk13 i v2220 v2222) (k1_t126 : Fin (k1_t126_loop v2220 v2222).trips) (k1_t128 : Fin (k1_t128_loop v2220 v2222 k1_t126).trips), ∀ a, (k1_off1736 v2220 v2222 k1_t126 k1_t128) a + S1x16.size a ≤ S72x256.size a := fun i v2220 v2222 k1_hw13 k1_t126 k1_t128 => k1_hw13.2.2.2.1.2.2.1 k1_t126 k1_t128
theorem k1_off1737_inb : ∀ (i : grid1.Coords) (v2220 : BitVec 32) (v2222 : BitVec 32) (k1_hw13 : k1_chk13 i v2220 v2222) (k1_t126 : Fin (k1_t126_loop v2220 v2222).trips) (k1_t128 : Fin (k1_t128_loop v2220 v2222 k1_t126).trips), ∀ a, (k1_off1737 v2220 v2222 k1_t126 k1_t128) a + S1x16.size a ≤ S72x256.size a := fun i v2220 v2222 k1_hw13 k1_t126 k1_t128 => k1_hw13.2.2.2.1.2.2.2.1 k1_t126 k1_t128
theorem k1_off1738_inb : ∀ (i : grid1.Coords) (v2220 : BitVec 32) (v2222 : BitVec 32) (k1_hw13 : k1_chk13 i v2220 v2222) (k1_t126 : Fin (k1_t126_loop v2220 v2222).trips) (k1_t128 : Fin (k1_t128_loop v2220 v2222 k1_t126).trips), ∀ a, (k1_off1738 v2220 v2222 k1_t126 k1_t128) a + S1x16.size a ≤ S72x256.size a := fun i v2220 v2222 k1_hw13 k1_t126 k1_t128 => k1_hw13.2.2.2.1.2.2.2.2.1 k1_t126 k1_t128
theorem k1_off1739_inb : ∀ (i : grid1.Coords) (v2220 : BitVec 32) (v2222 : BitVec 32) (k1_hw13 : k1_chk13 i v2220 v2222) (k1_t126 : Fin (k1_t126_loop v2220 v2222).trips) (k1_t128 : Fin (k1_t128_loop v2220 v2222 k1_t126).trips), ∀ a, (k1_off1739 v2220 v2222 k1_t126 k1_t128) a + S1x16.size a ≤ S72x256.size a := fun i v2220 v2222 k1_hw13 k1_t126 k1_t128 => k1_hw13.2.2.2.1.2.2.2.2.2.1 k1_t126 k1_t128
theorem k1_off1740_inb : ∀ (i : grid1.Coords) (v2220 : BitVec 32) (v2222 : BitVec 32) (k1_hw13 : k1_chk13 i v2220 v2222) (k1_t126 : Fin (k1_t126_loop v2220 v2222).trips) (k1_t128 : Fin (k1_t128_loop v2220 v2222 k1_t126).trips), ∀ a, (k1_off1740 v2220 v2222 k1_t126 k1_t128) a + S1x16.size a ≤ S72x256.size a := fun i v2220 v2222 k1_hw13 k1_t126 k1_t128 => k1_hw13.2.2.2.1.2.2.2.2.2.2.1 k1_t126 k1_t128
theorem k1_off1741_inb : ∀ (i : grid1.Coords) (v2220 : BitVec 32) (v2222 : BitVec 32) (k1_hw13 : k1_chk13 i v2220 v2222) (k1_t126 : Fin (k1_t126_loop v2220 v2222).trips) (k1_t128 : Fin (k1_t128_loop v2220 v2222 k1_t126).trips), ∀ a, (k1_off1741 v2220 v2222 k1_t126 k1_t128) a + S1x16.size a ≤ S72x256.size a := fun i v2220 v2222 k1_hw13 k1_t126 k1_t128 => k1_hw13.2.2.2.1.2.2.2.2.2.2.2.1 k1_t126 k1_t128
theorem k1_off1742_inb : ∀ (i : grid1.Coords) (v2220 : BitVec 32) (v2222 : BitVec 32) (k1_hw13 : k1_chk13 i v2220 v2222) (k1_t126 : Fin (k1_t126_loop v2220 v2222).trips) (k1_t128 : Fin (k1_t128_loop v2220 v2222 k1_t126).trips), ∀ a, (k1_off1742 v2220 v2222 k1_t126 k1_t128) a + S1x16.size a ≤ S72x256.size a := fun i v2220 v2222 k1_hw13 k1_t126 k1_t128 => k1_hw13.2.2.2.1.2.2.2.2.2.2.2.2.1 k1_t126 k1_t128
theorem k1_off1743_inb : ∀ (i : grid1.Coords) (v2220 : BitVec 32) (v2222 : BitVec 32) (k1_hw13 : k1_chk13 i v2220 v2222) (k1_t126 : Fin (k1_t126_loop v2220 v2222).trips) (k1_t128 : Fin (k1_t128_loop v2220 v2222 k1_t126).trips), ∀ a, (k1_off1743 v2220 v2222 k1_t126 k1_t128) a + S1x16.size a ≤ S72x256.size a := fun i v2220 v2222 k1_hw13 k1_t126 k1_t128 => k1_hw13.2.2.2.1.2.2.2.2.2.2.2.2.2.1 k1_t126 k1_t128
theorem k1_off1744_inb : ∀ (i : grid1.Coords) (v2220 : BitVec 32) (v2222 : BitVec 32) (k1_hw13 : k1_chk13 i v2220 v2222) (k1_t126 : Fin (k1_t126_loop v2220 v2222).trips) (k1_t128 : Fin (k1_t128_loop v2220 v2222 k1_t126).trips), ∀ a, (k1_off1744 v2220 v2222 k1_t126 k1_t128) a + S1x16.size a ≤ S72x256.size a := fun i v2220 v2222 k1_hw13 k1_t126 k1_t128 => k1_hw13.2.2.2.1.2.2.2.2.2.2.2.2.2.2.1 k1_t126 k1_t128
theorem k1_off1745_inb : ∀ (i : grid1.Coords) (v2220 : BitVec 32) (v2222 : BitVec 32) (k1_hw13 : k1_chk13 i v2220 v2222) (k1_t126 : Fin (k1_t126_loop v2220 v2222).trips) (k1_t128 : Fin (k1_t128_loop v2220 v2222 k1_t126).trips), ∀ a, (k1_off1745 v2220 v2222 k1_t126 k1_t128) a + S1x16.size a ≤ S72x256.size a := fun i v2220 v2222 k1_hw13 k1_t126 k1_t128 => k1_hw13.2.2.2.1.2.2.2.2.2.2.2.2.2.2.2.1 k1_t126 k1_t128
theorem k1_off1746_inb : ∀ (i : grid1.Coords) (v2220 : BitVec 32) (v2222 : BitVec 32) (k1_hw13 : k1_chk13 i v2220 v2222) (k1_t126 : Fin (k1_t126_loop v2220 v2222).trips) (k1_t128 : Fin (k1_t128_loop v2220 v2222 k1_t126).trips), ∀ a, (k1_off1746 v2220 v2222 k1_t126 k1_t128) a + S1x16.size a ≤ S72x256.size a := fun i v2220 v2222 k1_hw13 k1_t126 k1_t128 => k1_hw13.2.2.2.1.2.2.2.2.2.2.2.2.2.2.2.2.1 k1_t126 k1_t128
theorem k1_off1747_inb : ∀ (i : grid1.Coords) (v2220 : BitVec 32) (v2222 : BitVec 32) (k1_hw13 : k1_chk13 i v2220 v2222) (k1_t126 : Fin (k1_t126_loop v2220 v2222).trips) (k1_t128 : Fin (k1_t128_loop v2220 v2222 k1_t126).trips), ∀ a, (k1_off1747 v2220 v2222 k1_t126 k1_t128) a + S1x16.size a ≤ S72x256.size a := fun i v2220 v2222 k1_hw13 k1_t126 k1_t128 => k1_hw13.2.2.2.1.2.2.2.2.2.2.2.2.2.2.2.2.2.1 k1_t126 k1_t128
theorem k1_off1748_inb : ∀ (i : grid1.Coords) (v2220 : BitVec 32) (v2222 : BitVec 32) (k1_hw13 : k1_chk13 i v2220 v2222) (k1_t126 : Fin (k1_t126_loop v2220 v2222).trips) (k1_t128 : Fin (k1_t128_loop v2220 v2222 k1_t126).trips), ∀ a, (k1_off1748 v2220 v2222 k1_t126 k1_t128) a + S1x16.size a ≤ S72x256.size a := fun i v2220 v2222 k1_hw13 k1_t126 k1_t128 => k1_hw13.2.2.2.1.2.2.2.2.2.2.2.2.2.2.2.2.2.2.1 k1_t126 k1_t128
theorem k1_off1749_inb : ∀ (i : grid1.Coords) (v2220 : BitVec 32) (v2222 : BitVec 32) (k1_hw13 : k1_chk13 i v2220 v2222) (k1_t126 : Fin (k1_t126_loop v2220 v2222).trips), ∀ (k1_h116 : k1_cond116 v2220 v2222 k1_t126 = 1#1), ∀ a, (k1_off1749 i v2220 v2222 k1_t126) a + S72x256.size a ≤ S100000x512.size a := fun i v2220 v2222 k1_hw13 k1_t126 k1_h116 => k1_hw13.2.2.2.1.2.2.2.2.2.2.2.2.2.2.2.2.2.2.2.1 k1_t126 k1_h116
theorem k1_off1750_inb : ∀ (i : grid1.Coords) (v2220 : BitVec 32) (v2222 : BitVec 32) (k1_hw13 : k1_chk13 i v2220 v2222) (k1_t126 : Fin (k1_t126_loop v2220 v2222).trips), ∀ (k1_h116 : k1_cond116 v2220 v2222 k1_t126 = 1#1), ∀ (k1_h117 : k1_cond117 v2220 v2222 k1_t126 = 1#1), ∀ a, (k1_off1750 i v2220 v2222 k1_t126) a + S72x256.size a ≤ S100000x512.size a := fun i v2220 v2222 k1_hw13 k1_t126 k1_h116 k1_h117 => k1_hw13.2.2.2.1.2.2.2.2.2.2.2.2.2.2.2.2.2.2.2.2.1 k1_t126 k1_h116 k1_h117
theorem k1_t129_ok : ∀ (i : grid1.Coords) (v2220 : BitVec 32) (v2222 : BitVec 32) (k1_hw13 : k1_chk13 i v2220 v2222) (k1_t126 : Fin (k1_t126_loop v2220 v2222).trips), (k1_t129_loop v2220 v2222 k1_t126).OK := fun i v2220 v2222 k1_hw13 k1_t126 => k1_hw13.2.2.2.1.2.2.2.2.2.2.2.2.2.2.2.2.2.2.2.2.2.1 k1_t126
theorem k1_off1751_inb : ∀ (i : grid1.Coords) (v2220 : BitVec 32) (v2222 : BitVec 32) (k1_hw13 : k1_chk13 i v2220 v2222) (k1_t126 : Fin (k1_t126_loop v2220 v2222).trips) (k1_t129 : Fin (k1_t129_loop v2220 v2222 k1_t126).trips), ∀ a, (k1_off1751 v2220 v2222 k1_t126 k1_t129) a + S1x16.size a ≤ S72x256.size a := fun i v2220 v2222 k1_hw13 k1_t126 k1_t129 => k1_hw13.2.2.2.1.2.2.2.2.2.2.2.2.2.2.2.2.2.2.2.2.2.2.1 k1_t126 k1_t129
theorem k1_off1752_inb : ∀ (i : grid1.Coords) (v2220 : BitVec 32) (v2222 : BitVec 32) (k1_hw13 : k1_chk13 i v2220 v2222) (k1_t126 : Fin (k1_t126_loop v2220 v2222).trips) (k1_t129 : Fin (k1_t129_loop v2220 v2222 k1_t126).trips), ∀ a, (k1_off1752 v2220 v2222 k1_t126 k1_t129) a + S1x16.size a ≤ S72x256.size a := fun i v2220 v2222 k1_hw13 k1_t126 k1_t129 => k1_hw13.2.2.2.1.2.2.2.2.2.2.2.2.2.2.2.2.2.2.2.2.2.2.2.1 k1_t126 k1_t129
theorem k1_off1753_inb : ∀ (i : grid1.Coords) (v2220 : BitVec 32) (v2222 : BitVec 32) (k1_hw13 : k1_chk13 i v2220 v2222) (k1_t126 : Fin (k1_t126_loop v2220 v2222).trips) (k1_t129 : Fin (k1_t129_loop v2220 v2222 k1_t126).trips), ∀ a, (k1_off1753 v2220 v2222 k1_t126 k1_t129) a + S1x16.size a ≤ S72x256.size a := fun i v2220 v2222 k1_hw13 k1_t126 k1_t129 => k1_hw13.2.2.2.1.2.2.2.2.2.2.2.2.2.2.2.2.2.2.2.2.2.2.2.2.1 k1_t126 k1_t129
theorem k1_off1754_inb : ∀ (i : grid1.Coords) (v2220 : BitVec 32) (v2222 : BitVec 32) (k1_hw13 : k1_chk13 i v2220 v2222) (k1_t126 : Fin (k1_t126_loop v2220 v2222).trips) (k1_t129 : Fin (k1_t129_loop v2220 v2222 k1_t126).trips), ∀ a, (k1_off1754 v2220 v2222 k1_t126 k1_t129) a + S1x16.size a ≤ S72x256.size a := fun i v2220 v2222 k1_hw13 k1_t126 k1_t129 => k1_hw13.2.2.2.1.2.2.2.2.2.2.2.2.2.2.2.2.2.2.2.2.2.2.2.2.2.1 k1_t126 k1_t129
theorem k1_off1755_inb : ∀ (i : grid1.Coords) (v2220 : BitVec 32) (v2222 : BitVec 32) (k1_hw13 : k1_chk13 i v2220 v2222) (k1_t126 : Fin (k1_t126_loop v2220 v2222).trips) (k1_t129 : Fin (k1_t129_loop v2220 v2222 k1_t126).trips), ∀ a, (k1_off1755 v2220 v2222 k1_t126 k1_t129) a + S1x16.size a ≤ S72x256.size a := fun i v2220 v2222 k1_hw13 k1_t126 k1_t129 => k1_hw13.2.2.2.1.2.2.2.2.2.2.2.2.2.2.2.2.2.2.2.2.2.2.2.2.2.2.1 k1_t126 k1_t129
theorem k1_off1756_inb : ∀ (i : grid1.Coords) (v2220 : BitVec 32) (v2222 : BitVec 32) (k1_hw13 : k1_chk13 i v2220 v2222) (k1_t126 : Fin (k1_t126_loop v2220 v2222).trips) (k1_t129 : Fin (k1_t129_loop v2220 v2222 k1_t126).trips), ∀ a, (k1_off1756 v2220 v2222 k1_t126 k1_t129) a + S1x16.size a ≤ S72x256.size a := fun i v2220 v2222 k1_hw13 k1_t126 k1_t129 => k1_hw13.2.2.2.1.2.2.2.2.2.2.2.2.2.2.2.2.2.2.2.2.2.2.2.2.2.2.2.1 k1_t126 k1_t129
theorem k1_off1757_inb : ∀ (i : grid1.Coords) (v2220 : BitVec 32) (v2222 : BitVec 32) (k1_hw13 : k1_chk13 i v2220 v2222) (k1_t126 : Fin (k1_t126_loop v2220 v2222).trips) (k1_t129 : Fin (k1_t129_loop v2220 v2222 k1_t126).trips), ∀ a, (k1_off1757 v2220 v2222 k1_t126 k1_t129) a + S1x16.size a ≤ S72x256.size a := fun i v2220 v2222 k1_hw13 k1_t126 k1_t129 => k1_hw13.2.2.2.1.2.2.2.2.2.2.2.2.2.2.2.2.2.2.2.2.2.2.2.2.2.2.2.2.1 k1_t126 k1_t129
theorem k1_off1758_inb : ∀ (i : grid1.Coords) (v2220 : BitVec 32) (v2222 : BitVec 32) (k1_hw13 : k1_chk13 i v2220 v2222) (k1_t126 : Fin (k1_t126_loop v2220 v2222).trips) (k1_t129 : Fin (k1_t129_loop v2220 v2222 k1_t126).trips), ∀ a, (k1_off1758 v2220 v2222 k1_t126 k1_t129) a + S1x16.size a ≤ S72x256.size a := fun i v2220 v2222 k1_hw13 k1_t126 k1_t129 => k1_hw13.2.2.2.1.2.2.2.2.2.2.2.2.2.2.2.2.2.2.2.2.2.2.2.2.2.2.2.2.2.1 k1_t126 k1_t129
theorem k1_off1759_inb : ∀ (i : grid1.Coords) (v2220 : BitVec 32) (v2222 : BitVec 32) (k1_hw13 : k1_chk13 i v2220 v2222) (k1_t126 : Fin (k1_t126_loop v2220 v2222).trips) (k1_t129 : Fin (k1_t129_loop v2220 v2222 k1_t126).trips), ∀ a, (k1_off1759 v2220 v2222 k1_t126 k1_t129) a + S1x16.size a ≤ S72x256.size a := fun i v2220 v2222 k1_hw13 k1_t126 k1_t129 => k1_hw13.2.2.2.1.2.2.2.2.2.2.2.2.2.2.2.2.2.2.2.2.2.2.2.2.2.2.2.2.2.2.1 k1_t126 k1_t129
theorem k1_off1760_inb : ∀ (i : grid1.Coords) (v2220 : BitVec 32) (v2222 : BitVec 32) (k1_hw13 : k1_chk13 i v2220 v2222) (k1_t126 : Fin (k1_t126_loop v2220 v2222).trips) (k1_t129 : Fin (k1_t129_loop v2220 v2222 k1_t126).trips), ∀ a, (k1_off1760 v2220 v2222 k1_t126 k1_t129) a + S1x16.size a ≤ S72x256.size a := fun i v2220 v2222 k1_hw13 k1_t126 k1_t129 => k1_hw13.2.2.2.1.2.2.2.2.2.2.2.2.2.2.2.2.2.2.2.2.2.2.2.2.2.2.2.2.2.2.2.1 k1_t126 k1_t129
theorem k1_off1761_inb : ∀ (i : grid1.Coords) (v2220 : BitVec 32) (v2222 : BitVec 32) (k1_hw13 : k1_chk13 i v2220 v2222) (k1_t126 : Fin (k1_t126_loop v2220 v2222).trips) (k1_t129 : Fin (k1_t129_loop v2220 v2222 k1_t126).trips), ∀ a, (k1_off1761 v2220 v2222 k1_t126 k1_t129) a + S1x16.size a ≤ S72x256.size a := fun i v2220 v2222 k1_hw13 k1_t126 k1_t129 => k1_hw13.2.2.2.1.2.2.2.2.2.2.2.2.2.2.2.2.2.2.2.2.2.2.2.2.2.2.2.2.2.2.2.2.1 k1_t126 k1_t129
theorem k1_off1762_inb : ∀ (i : grid1.Coords) (v2220 : BitVec 32) (v2222 : BitVec 32) (k1_hw13 : k1_chk13 i v2220 v2222) (k1_t126 : Fin (k1_t126_loop v2220 v2222).trips) (k1_t129 : Fin (k1_t129_loop v2220 v2222 k1_t126).trips), ∀ a, (k1_off1762 v2220 v2222 k1_t126 k1_t129) a + S1x16.size a ≤ S72x256.size a := fun i v2220 v2222 k1_hw13 k1_t126 k1_t129 => k1_hw13.2.2.2.1.2.2.2.2.2.2.2.2.2.2.2.2.2.2.2.2.2.2.2.2.2.2.2.2.2.2.2.2.2.1 k1_t126 k1_t129
theorem k1_off1763_inb : ∀ (i : grid1.Coords) (v2220 : BitVec 32) (v2222 : BitVec 32) (k1_hw13 : k1_chk13 i v2220 v2222) (k1_t126 : Fin (k1_t126_loop v2220 v2222).trips) (k1_t129 : Fin (k1_t129_loop v2220 v2222 k1_t126).trips), ∀ a, (k1_off1763 v2220 v2222 k1_t126 k1_t129) a + S1x16.size a ≤ S72x256.size a := fun i v2220 v2222 k1_hw13 k1_t126 k1_t129 => k1_hw13.2.2.2.1.2.2.2.2.2.2.2.2.2.2.2.2.2.2.2.2.2.2.2.2.2.2.2.2.2.2.2.2.2.2.1 k1_t126 k1_t129
theorem k1_off1764_inb : ∀ (i : grid1.Coords) (v2220 : BitVec 32) (v2222 : BitVec 32) (k1_hw13 : k1_chk13 i v2220 v2222) (k1_t126 : Fin (k1_t126_loop v2220 v2222).trips) (k1_t129 : Fin (k1_t129_loop v2220 v2222 k1_t126).trips), ∀ a, (k1_off1764 v2220 v2222 k1_t126 k1_t129) a + S1x16.size a ≤ S72x256.size a := fun i v2220 v2222 k1_hw13 k1_t126 k1_t129 => k1_hw13.2.2.2.1.2.2.2.2.2.2.2.2.2.2.2.2.2.2.2.2.2.2.2.2.2.2.2.2.2.2.2.2.2.2.2 k1_t126 k1_t129
theorem k1_off1765_inb : ∀ (i : grid1.Coords) (v2220 : BitVec 32) (v2222 : BitVec 32) (k1_hw13 : k1_chk13 i v2220 v2222) (k1_t126 : Fin (k1_t126_loop v2220 v2222).trips) (k1_t129 : Fin (k1_t129_loop v2220 v2222 k1_t126).trips), ∀ a, (k1_off1765 v2220 v2222 k1_t126 k1_t129) a + S1x16.size a ≤ S72x256.size a := fun i v2220 v2222 k1_hw13 k1_t126 k1_t129 => k1_hw13.2.2.2.2.1 k1_t126 k1_t129
theorem k1_off1766_inb : ∀ (i : grid1.Coords) (v2220 : BitVec 32) (v2222 : BitVec 32) (k1_hw13 : k1_chk13 i v2220 v2222) (k1_t126 : Fin (k1_t126_loop v2220 v2222).trips) (k1_t129 : Fin (k1_t129_loop v2220 v2222 k1_t126).trips), ∀ a, (k1_off1766 v2220 v2222 k1_t126 k1_t129) a + S1x16.size a ≤ S72x256.size a := fun i v2220 v2222 k1_hw13 k1_t126 k1_t129 => k1_hw13.2.2.2.2.2.1 k1_t126 k1_t129
theorem k1_t130_ok : ∀ (i : grid1.Coords) (v2220 : BitVec 32) (v2222 : BitVec 32) (k1_hw13 : k1_chk13 i v2220 v2222) (k1_t126 : Fin (k1_t126_loop v2220 v2222).trips), (k1_t130_loop v2220 v2222 k1_t126).OK := fun i v2220 v2222 k1_hw13 k1_t126 => k1_hw13.2.2.2.2.2.2.1 k1_t126
theorem k1_off1767_inb : ∀ (i : grid1.Coords) (v2220 : BitVec 32) (v2222 : BitVec 32) (k1_hw13 : k1_chk13 i v2220 v2222) (k1_t126 : Fin (k1_t126_loop v2220 v2222).trips) (k1_t130 : Fin (k1_t130_loop v2220 v2222 k1_t126).trips), ∀ a, (k1_off1767 v2220 v2222 k1_t126 k1_t130) a + S1x16.size a ≤ S72x256.size a := fun i v2220 v2222 k1_hw13 k1_t126 k1_t130 => k1_hw13.2.2.2.2.2.2.2.1 k1_t126 k1_t130
theorem k1_off1768_inb : ∀ (i : grid1.Coords) (v2220 : BitVec 32) (v2222 : BitVec 32) (k1_hw13 : k1_chk13 i v2220 v2222) (k1_t126 : Fin (k1_t126_loop v2220 v2222).trips) (k1_t130 : Fin (k1_t130_loop v2220 v2222 k1_t126).trips), ∀ a, (k1_off1768 v2220 v2222 k1_t126 k1_t130) a + S1x16.size a ≤ S72x256.size a := fun i v2220 v2222 k1_hw13 k1_t126 k1_t130 => k1_hw13.2.2.2.2.2.2.2.2.1 k1_t126 k1_t130
theorem k1_off1769_inb : ∀ (i : grid1.Coords) (v2220 : BitVec 32) (v2222 : BitVec 32) (k1_hw13 : k1_chk13 i v2220 v2222) (k1_t126 : Fin (k1_t126_loop v2220 v2222).trips) (k1_t130 : Fin (k1_t130_loop v2220 v2222 k1_t126).trips), ∀ a, (k1_off1769 v2220 v2222 k1_t126 k1_t130) a + S1x16.size a ≤ S72x256.size a := fun i v2220 v2222 k1_hw13 k1_t126 k1_t130 => k1_hw13.2.2.2.2.2.2.2.2.2.1 k1_t126 k1_t130
theorem k1_off1770_inb : ∀ (i : grid1.Coords) (v2220 : BitVec 32) (v2222 : BitVec 32) (k1_hw13 : k1_chk13 i v2220 v2222) (k1_t126 : Fin (k1_t126_loop v2220 v2222).trips) (k1_t130 : Fin (k1_t130_loop v2220 v2222 k1_t126).trips), ∀ a, (k1_off1770 v2220 v2222 k1_t126 k1_t130) a + S1x16.size a ≤ S72x256.size a := fun i v2220 v2222 k1_hw13 k1_t126 k1_t130 => k1_hw13.2.2.2.2.2.2.2.2.2.2.1 k1_t126 k1_t130
theorem k1_off1771_inb : ∀ (i : grid1.Coords) (v2220 : BitVec 32) (v2222 : BitVec 32) (k1_hw13 : k1_chk13 i v2220 v2222) (k1_t126 : Fin (k1_t126_loop v2220 v2222).trips) (k1_t130 : Fin (k1_t130_loop v2220 v2222 k1_t126).trips), ∀ a, (k1_off1771 v2220 v2222 k1_t126 k1_t130) a + S1x16.size a ≤ S72x256.size a := fun i v2220 v2222 k1_hw13 k1_t126 k1_t130 => k1_hw13.2.2.2.2.2.2.2.2.2.2.2.1 k1_t126 k1_t130
theorem k1_off1772_inb : ∀ (i : grid1.Coords) (v2220 : BitVec 32) (v2222 : BitVec 32) (k1_hw13 : k1_chk13 i v2220 v2222) (k1_t126 : Fin (k1_t126_loop v2220 v2222).trips) (k1_t130 : Fin (k1_t130_loop v2220 v2222 k1_t126).trips), ∀ a, (k1_off1772 v2220 v2222 k1_t126 k1_t130) a + S1x16.size a ≤ S72x256.size a := fun i v2220 v2222 k1_hw13 k1_t126 k1_t130 => k1_hw13.2.2.2.2.2.2.2.2.2.2.2.2.1 k1_t126 k1_t130
theorem k1_off1773_inb : ∀ (i : grid1.Coords) (v2220 : BitVec 32) (v2222 : BitVec 32) (k1_hw13 : k1_chk13 i v2220 v2222) (k1_t126 : Fin (k1_t126_loop v2220 v2222).trips) (k1_t130 : Fin (k1_t130_loop v2220 v2222 k1_t126).trips), ∀ a, (k1_off1773 v2220 v2222 k1_t126 k1_t130) a + S1x16.size a ≤ S72x256.size a := fun i v2220 v2222 k1_hw13 k1_t126 k1_t130 => k1_hw13.2.2.2.2.2.2.2.2.2.2.2.2.2.1 k1_t126 k1_t130
theorem k1_off1774_inb : ∀ (i : grid1.Coords) (v2220 : BitVec 32) (v2222 : BitVec 32) (k1_hw13 : k1_chk13 i v2220 v2222) (k1_t126 : Fin (k1_t126_loop v2220 v2222).trips) (k1_t130 : Fin (k1_t130_loop v2220 v2222 k1_t126).trips), ∀ a, (k1_off1774 v2220 v2222 k1_t126 k1_t130) a + S1x16.size a ≤ S72x256.size a := fun i v2220 v2222 k1_hw13 k1_t126 k1_t130 => k1_hw13.2.2.2.2.2.2.2.2.2.2.2.2.2.2.1 k1_t126 k1_t130
theorem k1_off1775_inb : ∀ (i : grid1.Coords) (v2220 : BitVec 32) (v2222 : BitVec 32) (k1_hw13 : k1_chk13 i v2220 v2222) (k1_t126 : Fin (k1_t126_loop v2220 v2222).trips) (k1_t130 : Fin (k1_t130_loop v2220 v2222 k1_t126).trips), ∀ a, (k1_off1775 v2220 v2222 k1_t126 k1_t130) a + S1x16.size a ≤ S72x256.size a := fun i v2220 v2222 k1_hw13 k1_t126 k1_t130 => k1_hw13.2.2.2.2.2.2.2.2.2.2.2.2.2.2.2.1 k1_t126 k1_t130
theorem k1_off1776_inb : ∀ (i : grid1.Coords) (v2220 : BitVec 32) (v2222 : BitVec 32) (k1_hw13 : k1_chk13 i v2220 v2222) (k1_t126 : Fin (k1_t126_loop v2220 v2222).trips) (k1_t130 : Fin (k1_t130_loop v2220 v2222 k1_t126).trips), ∀ a, (k1_off1776 v2220 v2222 k1_t126 k1_t130) a + S1x16.size a ≤ S72x256.size a := fun i v2220 v2222 k1_hw13 k1_t126 k1_t130 => k1_hw13.2.2.2.2.2.2.2.2.2.2.2.2.2.2.2.2.1 k1_t126 k1_t130
theorem k1_off1777_inb : ∀ (i : grid1.Coords) (v2220 : BitVec 32) (v2222 : BitVec 32) (k1_hw13 : k1_chk13 i v2220 v2222) (k1_t126 : Fin (k1_t126_loop v2220 v2222).trips) (k1_t130 : Fin (k1_t130_loop v2220 v2222 k1_t126).trips), ∀ a, (k1_off1777 v2220 v2222 k1_t126 k1_t130) a + S1x16.size a ≤ S72x256.size a := fun i v2220 v2222 k1_hw13 k1_t126 k1_t130 => k1_hw13.2.2.2.2.2.2.2.2.2.2.2.2.2.2.2.2.2.1 k1_t126 k1_t130
theorem k1_off1778_inb : ∀ (i : grid1.Coords) (v2220 : BitVec 32) (v2222 : BitVec 32) (k1_hw13 : k1_chk13 i v2220 v2222) (k1_t126 : Fin (k1_t126_loop v2220 v2222).trips) (k1_t130 : Fin (k1_t130_loop v2220 v2222 k1_t126).trips), ∀ a, (k1_off1778 v2220 v2222 k1_t126 k1_t130) a + S1x16.size a ≤ S72x256.size a := fun i v2220 v2222 k1_hw13 k1_t126 k1_t130 => k1_hw13.2.2.2.2.2.2.2.2.2.2.2.2.2.2.2.2.2.2.1 k1_t126 k1_t130
theorem k1_off1779_inb : ∀ (i : grid1.Coords) (v2220 : BitVec 32) (v2222 : BitVec 32) (k1_hw13 : k1_chk13 i v2220 v2222) (k1_t126 : Fin (k1_t126_loop v2220 v2222).trips) (k1_t130 : Fin (k1_t130_loop v2220 v2222 k1_t126).trips), ∀ a, (k1_off1779 v2220 v2222 k1_t126 k1_t130) a + S1x16.size a ≤ S72x256.size a := fun i v2220 v2222 k1_hw13 k1_t126 k1_t130 => k1_hw13.2.2.2.2.2.2.2.2.2.2.2.2.2.2.2.2.2.2.2.1 k1_t126 k1_t130
theorem k1_off1780_inb : ∀ (i : grid1.Coords) (v2220 : BitVec 32) (v2222 : BitVec 32) (k1_hw13 : k1_chk13 i v2220 v2222) (k1_t126 : Fin (k1_t126_loop v2220 v2222).trips) (k1_t130 : Fin (k1_t130_loop v2220 v2222 k1_t126).trips), ∀ a, (k1_off1780 v2220 v2222 k1_t126 k1_t130) a + S1x16.size a ≤ S72x256.size a := fun i v2220 v2222 k1_hw13 k1_t126 k1_t130 => k1_hw13.2.2.2.2.2.2.2.2.2.2.2.2.2.2.2.2.2.2.2.2.1 k1_t126 k1_t130
theorem k1_off1781_inb : ∀ (i : grid1.Coords) (v2220 : BitVec 32) (v2222 : BitVec 32) (k1_hw13 : k1_chk13 i v2220 v2222) (k1_t126 : Fin (k1_t126_loop v2220 v2222).trips) (k1_t130 : Fin (k1_t130_loop v2220 v2222 k1_t126).trips), ∀ a, (k1_off1781 v2220 v2222 k1_t126 k1_t130) a + S1x16.size a ≤ S72x256.size a := fun i v2220 v2222 k1_hw13 k1_t126 k1_t130 => k1_hw13.2.2.2.2.2.2.2.2.2.2.2.2.2.2.2.2.2.2.2.2.2.1 k1_t126 k1_t130
theorem k1_off1782_inb : ∀ (i : grid1.Coords) (v2220 : BitVec 32) (v2222 : BitVec 32) (k1_hw13 : k1_chk13 i v2220 v2222) (k1_t126 : Fin (k1_t126_loop v2220 v2222).trips) (k1_t130 : Fin (k1_t130_loop v2220 v2222 k1_t126).trips), ∀ a, (k1_off1782 v2220 v2222 k1_t126 k1_t130) a + S1x16.size a ≤ S72x256.size a := fun i v2220 v2222 k1_hw13 k1_t126 k1_t130 => k1_hw13.2.2.2.2.2.2.2.2.2.2.2.2.2.2.2.2.2.2.2.2.2.2 k1_t126 k1_t130

def k1_off1783 (i : grid1.Coords) (v2402 : BitVec 32) : Fin 2 → Nat :=
  let c0_i32_1408 : BitVec 32 := 0#32
  let v2949 : BitVec 32 := Scalar.addi v2402 c0_i32_1408
  let c0_i32_1410 : BitVec 32 := 0#32
  let v2951 : BitVec 1 := Scalar.cmpi .sgt v2949 c0_i32_1410
  let v2952 : BitVec 32 := Scalar.extui v2951
  let c0_i32_1411 : BitVec 32 := 0#32
  let v2953 : BitVec 1 := Scalar.cmpi .slt v2949 c0_i32_1411
  let v2954 : BitVec 32 := Scalar.extui v2953
  let v2955 : BitVec 32 := Scalar.subi v2952 v2954
  let c8_i32_1409 : BitVec 32 := 8#32
  let c0_i32_1412 : BitVec 32 := 0#32
  let v2956 : BitVec 1 := Scalar.cmpi .sgt c8_i32_1409 c0_i32_1412
  let v2957 : BitVec 32 := Scalar.extui v2956
  let c0_i32_1413 : BitVec 32 := 0#32
  let v2958 : BitVec 1 := Scalar.cmpi .slt c8_i32_1409 c0_i32_1413
  let v2959 : BitVec 32 := Scalar.extui v2958
  let v2960 : BitVec 32 := Scalar.subi v2957 v2959
  let v2961 : BitVec 1 := Scalar.cmpi .ne v2955 v2960
  let v2962 : BitVec 32 := Scalar.remsi v2949 c8_i32_1409
  let c0_i32_1414 : BitVec 32 := 0#32
  let v2963 : BitVec 1 := Scalar.cmpi .ne v2962 c0_i32_1414
  let v2964 : BitVec 1 := Scalar.andi v2961 v2963
  let v2950 : BitVec 32 := Scalar.divsi v2949 c8_i32_1409
  let c1_i32_1415 : BitVec 32 := 1#32
  let v2965 : BitVec 32 := Scalar.subi v2950 c1_i32_1415
  let v2966 : BitVec 32 := Scalar.select v2964 v2965 v2950
  let c8_i32_1416 : BitVec 32 := 8#32
  let v2967 : BitVec 32 := Scalar.muli v2966 c8_i32_1416
  let c99928_i32 : BitVec 32 := 99928#32
  let v2968 : BitVec 32 := Scalar.minsi v2967 c99928_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v2968.toNat, v29.toNat]
def k1_cond118 (v2402 : BitVec 32) (v2404 : BitVec 32) : BitVec 1 :=
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c0_i32_1153 : BitVec 32 := 0#32
  let v2427 : BitVec 1 := Scalar.cmpi .sgt v2426 c0_i32_1153
  let v2428 : BitVec 32 := Scalar.extui v2427
  let c0_i32_1154 : BitVec 32 := 0#32
  let v2429 : BitVec 1 := Scalar.cmpi .ne v2428 c0_i32_1154
  v2429

@[reducible] def k1_t131_loop (v2402 : BitVec 32) (v2404 : BitVec 32) : Scf.Loop 32 :=
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1165 : BitVec 32 := 1#32
  ⟨c0_i32_1163, v2452, c1_i32_1165⟩
def k1_off1784 (i : grid1.Coords) (v2402 : BitVec 32) (v2404 : BitVec 32) (k1_t131 : Fin (k1_t131_loop v2402 v2404).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1446 : BitVec 32 := 64#32
  let v3026 : BitVec 32 := Scalar.muli v2949 c64_i32_1446
  let v3027 : BitVec 32 := Scalar.addi v2402 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond119 (v2402 : BitVec 32) (v2404 : BitVec 32) (k1_t131 : Fin (k1_t131_loop v2402 v2404).trips) : BitVec 1 :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let v2950 : BitVec 1 := Scalar.cmpi .slt v2949 v2426
  let v2951 : BitVec 32 := Scalar.extui v2950
  let c0_i32_1409 : BitVec 32 := 0#32
  let v2952 : BitVec 1 := Scalar.cmpi .ne v2951 c0_i32_1409
  v2952

def k1_off1785 (i : grid1.Coords) (v2402 : BitVec 32) (v2404 : BitVec 32) (k1_t131 : Fin (k1_t131_loop v2402 v2404).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v2402 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond120 (v2402 : BitVec 32) (v2404 : BitVec 32) (k1_t131 : Fin (k1_t131_loop v2402 v2404).trips) : BitVec 1 :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c1_i32_1456 : BitVec 32 := 1#32
  let v3049 : BitVec 32 := Scalar.addi v2949 c1_i32_1456
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let v3050 : BitVec 1 := Scalar.cmpi .slt v3049 v2426
  let v3051 : BitVec 32 := Scalar.extui v3050
  let c0_i32_1457 : BitVec 32 := 0#32
  let v3052 : BitVec 1 := Scalar.cmpi .ne v3051 c0_i32_1457
  v3052

@[reducible] def k1_t132_loop (v2402 : BitVec 32) (v2404 : BitVec 32) (k1_t131 : Fin (k1_t131_loop v2402 v2404).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off1786 (v2402 : BitVec 32) (v2404 : BitVec 32) (k1_t131 : Fin (k1_t131_loop v2402 v2404).trips) (k1_t132 : Fin (k1_t132_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t132
  let v3026 : BitVec 32 := Scalar.addi v2976 arg46
  let v3027 : Index := Scalar.indexCast v3026
  let c0_1446 : Index := 0#32
  ![v3027.toNat, 0]
def k1_off1787 (v2402 : BitVec 32) (v2404 : BitVec 32) (k1_t131 : Fin (k1_t131_loop v2402 v2404).trips) (k1_t132 : Fin (k1_t132_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t132
  let v3026 : BitVec 32 := Scalar.addi v2976 arg46
  let v3032 : Index := Scalar.indexCast v3026
  let c16_1447 : Index := 16#32
  ![v3032.toNat, 16]
def k1_off1788 (v2402 : BitVec 32) (v2404 : BitVec 32) (k1_t131 : Fin (k1_t131_loop v2402 v2404).trips) (k1_t132 : Fin (k1_t132_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t132
  let v3026 : BitVec 32 := Scalar.addi v2976 arg46
  let v3037 : Index := Scalar.indexCast v3026
  let c32_1448 : Index := 32#32
  ![v3037.toNat, 32]
def k1_off1789 (v2402 : BitVec 32) (v2404 : BitVec 32) (k1_t131 : Fin (k1_t131_loop v2402 v2404).trips) (k1_t132 : Fin (k1_t132_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t132
  let v3026 : BitVec 32 := Scalar.addi v2976 arg46
  let v3042 : Index := Scalar.indexCast v3026
  let c48_1449 : Index := 48#32
  ![v3042.toNat, 48]
def k1_off1790 (v2402 : BitVec 32) (v2404 : BitVec 32) (k1_t131 : Fin (k1_t131_loop v2402 v2404).trips) (k1_t132 : Fin (k1_t132_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t132
  let v3026 : BitVec 32 := Scalar.addi v2976 arg46
  let v3047 : Index := Scalar.indexCast v3026
  let c64_1450 : Index := 64#32
  ![v3047.toNat, 64]
def k1_off1791 (v2402 : BitVec 32) (v2404 : BitVec 32) (k1_t131 : Fin (k1_t131_loop v2402 v2404).trips) (k1_t132 : Fin (k1_t132_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t132
  let v3026 : BitVec 32 := Scalar.addi v2976 arg46
  let v3052 : Index := Scalar.indexCast v3026
  let c80_1451 : Index := 80#32
  ![v3052.toNat, 80]
def k1_off1792 (v2402 : BitVec 32) (v2404 : BitVec 32) (k1_t131 : Fin (k1_t131_loop v2402 v2404).trips) (k1_t132 : Fin (k1_t132_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t132
  let v3026 : BitVec 32 := Scalar.addi v2976 arg46
  let v3057 : Index := Scalar.indexCast v3026
  let c96_1452 : Index := 96#32
  ![v3057.toNat, 96]
def k1_off1793 (v2402 : BitVec 32) (v2404 : BitVec 32) (k1_t131 : Fin (k1_t131_loop v2402 v2404).trips) (k1_t132 : Fin (k1_t132_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t132
  let v3026 : BitVec 32 := Scalar.addi v2976 arg46
  let v3062 : Index := Scalar.indexCast v3026
  let c112_1453 : Index := 112#32
  ![v3062.toNat, 112]
def k1_off1794 (v2402 : BitVec 32) (v2404 : BitVec 32) (k1_t131 : Fin (k1_t131_loop v2402 v2404).trips) (k1_t132 : Fin (k1_t132_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t132
  let v3026 : BitVec 32 := Scalar.addi v2976 arg46
  let v3067 : Index := Scalar.indexCast v3026
  let c128_1454 : Index := 128#32
  ![v3067.toNat, 128]
def k1_off1795 (v2402 : BitVec 32) (v2404 : BitVec 32) (k1_t131 : Fin (k1_t131_loop v2402 v2404).trips) (k1_t132 : Fin (k1_t132_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t132
  let v3026 : BitVec 32 := Scalar.addi v2976 arg46
  let v3072 : Index := Scalar.indexCast v3026
  let c144_1455 : Index := 144#32
  ![v3072.toNat, 144]
def k1_off1796 (v2402 : BitVec 32) (v2404 : BitVec 32) (k1_t131 : Fin (k1_t131_loop v2402 v2404).trips) (k1_t132 : Fin (k1_t132_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t132
  let v3026 : BitVec 32 := Scalar.addi v2976 arg46
  let v3077 : Index := Scalar.indexCast v3026
  let c160_1456 : Index := 160#32
  ![v3077.toNat, 160]
def k1_off1797 (v2402 : BitVec 32) (v2404 : BitVec 32) (k1_t131 : Fin (k1_t131_loop v2402 v2404).trips) (k1_t132 : Fin (k1_t132_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t132
  let v3026 : BitVec 32 := Scalar.addi v2976 arg46
  let v3082 : Index := Scalar.indexCast v3026
  let c176_1457 : Index := 176#32
  ![v3082.toNat, 176]
def k1_off1798 (v2402 : BitVec 32) (v2404 : BitVec 32) (k1_t131 : Fin (k1_t131_loop v2402 v2404).trips) (k1_t132 : Fin (k1_t132_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t132
  let v3026 : BitVec 32 := Scalar.addi v2976 arg46
  let v3087 : Index := Scalar.indexCast v3026
  let c192_1458 : Index := 192#32
  ![v3087.toNat, 192]
def k1_off1799 (v2402 : BitVec 32) (v2404 : BitVec 32) (k1_t131 : Fin (k1_t131_loop v2402 v2404).trips) (k1_t132 : Fin (k1_t132_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t132
  let v3026 : BitVec 32 := Scalar.addi v2976 arg46
  let v3092 : Index := Scalar.indexCast v3026
  let c208_1459 : Index := 208#32
  ![v3092.toNat, 208]
def k1_off1800 (v2402 : BitVec 32) (v2404 : BitVec 32) (k1_t131 : Fin (k1_t131_loop v2402 v2404).trips) (k1_t132 : Fin (k1_t132_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t132
  let v3026 : BitVec 32 := Scalar.addi v2976 arg46
  let v3097 : Index := Scalar.indexCast v3026
  let c224_1460 : Index := 224#32
  ![v3097.toNat, 224]
def k1_off1801 (v2402 : BitVec 32) (v2404 : BitVec 32) (k1_t131 : Fin (k1_t131_loop v2402 v2404).trips) (k1_t132 : Fin (k1_t132_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t132
  let v3026 : BitVec 32 := Scalar.addi v2976 arg46
  let v3102 : Index := Scalar.indexCast v3026
  let c240_1461 : Index := 240#32
  ![v3102.toNat, 240]
@[reducible] def k1_t133_loop (v2402 : BitVec 32) (v2404 : BitVec 32) (k1_t131 : Fin (k1_t131_loop v2402 v2404).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off1802 (v2402 : BitVec 32) (v2404 : BitVec 32) (k1_t131 : Fin (k1_t131_loop v2402 v2404).trips) (k1_t133 : Fin (k1_t133_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t133
  let v3026 : BitVec 32 := Scalar.addi v2976 arg46
  let v3027 : Index := Scalar.indexCast v3026
  let c0_1446 : Index := 0#32
  ![v3027.toNat, 0]
def k1_off1803 (v2402 : BitVec 32) (v2404 : BitVec 32) (k1_t131 : Fin (k1_t131_loop v2402 v2404).trips) (k1_t133 : Fin (k1_t133_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t133
  let v3026 : BitVec 32 := Scalar.addi v2976 arg46
  let v3032 : Index := Scalar.indexCast v3026
  let c16_1447 : Index := 16#32
  ![v3032.toNat, 16]
def k1_off1804 (v2402 : BitVec 32) (v2404 : BitVec 32) (k1_t131 : Fin (k1_t131_loop v2402 v2404).trips) (k1_t133 : Fin (k1_t133_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t133
  let v3026 : BitVec 32 := Scalar.addi v2976 arg46
  let v3037 : Index := Scalar.indexCast v3026
  let c32_1448 : Index := 32#32
  ![v3037.toNat, 32]
def k1_off1805 (v2402 : BitVec 32) (v2404 : BitVec 32) (k1_t131 : Fin (k1_t131_loop v2402 v2404).trips) (k1_t133 : Fin (k1_t133_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t133
  let v3026 : BitVec 32 := Scalar.addi v2976 arg46
  let v3042 : Index := Scalar.indexCast v3026
  let c48_1449 : Index := 48#32
  ![v3042.toNat, 48]
def k1_off1806 (v2402 : BitVec 32) (v2404 : BitVec 32) (k1_t131 : Fin (k1_t131_loop v2402 v2404).trips) (k1_t133 : Fin (k1_t133_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t133
  let v3026 : BitVec 32 := Scalar.addi v2976 arg46
  let v3047 : Index := Scalar.indexCast v3026
  let c64_1450 : Index := 64#32
  ![v3047.toNat, 64]
def k1_off1807 (v2402 : BitVec 32) (v2404 : BitVec 32) (k1_t131 : Fin (k1_t131_loop v2402 v2404).trips) (k1_t133 : Fin (k1_t133_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t133
  let v3026 : BitVec 32 := Scalar.addi v2976 arg46
  let v3052 : Index := Scalar.indexCast v3026
  let c80_1451 : Index := 80#32
  ![v3052.toNat, 80]
def k1_off1808 (v2402 : BitVec 32) (v2404 : BitVec 32) (k1_t131 : Fin (k1_t131_loop v2402 v2404).trips) (k1_t133 : Fin (k1_t133_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t133
  let v3026 : BitVec 32 := Scalar.addi v2976 arg46
  let v3057 : Index := Scalar.indexCast v3026
  let c96_1452 : Index := 96#32
  ![v3057.toNat, 96]
def k1_off1809 (v2402 : BitVec 32) (v2404 : BitVec 32) (k1_t131 : Fin (k1_t131_loop v2402 v2404).trips) (k1_t133 : Fin (k1_t133_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t133
  let v3026 : BitVec 32 := Scalar.addi v2976 arg46
  let v3062 : Index := Scalar.indexCast v3026
  let c112_1453 : Index := 112#32
  ![v3062.toNat, 112]
def k1_off1810 (v2402 : BitVec 32) (v2404 : BitVec 32) (k1_t131 : Fin (k1_t131_loop v2402 v2404).trips) (k1_t133 : Fin (k1_t133_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t133
  let v3026 : BitVec 32 := Scalar.addi v2976 arg46
  let v3067 : Index := Scalar.indexCast v3026
  let c128_1454 : Index := 128#32
  ![v3067.toNat, 128]
def k1_off1811 (v2402 : BitVec 32) (v2404 : BitVec 32) (k1_t131 : Fin (k1_t131_loop v2402 v2404).trips) (k1_t133 : Fin (k1_t133_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t133
  let v3026 : BitVec 32 := Scalar.addi v2976 arg46
  let v3072 : Index := Scalar.indexCast v3026
  let c144_1455 : Index := 144#32
  ![v3072.toNat, 144]
def k1_off1812 (v2402 : BitVec 32) (v2404 : BitVec 32) (k1_t131 : Fin (k1_t131_loop v2402 v2404).trips) (k1_t133 : Fin (k1_t133_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t133
  let v3026 : BitVec 32 := Scalar.addi v2976 arg46
  let v3077 : Index := Scalar.indexCast v3026
  let c160_1456 : Index := 160#32
  ![v3077.toNat, 160]
def k1_off1813 (v2402 : BitVec 32) (v2404 : BitVec 32) (k1_t131 : Fin (k1_t131_loop v2402 v2404).trips) (k1_t133 : Fin (k1_t133_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t133
  let v3026 : BitVec 32 := Scalar.addi v2976 arg46
  let v3082 : Index := Scalar.indexCast v3026
  let c176_1457 : Index := 176#32
  ![v3082.toNat, 176]
def k1_off1814 (v2402 : BitVec 32) (v2404 : BitVec 32) (k1_t131 : Fin (k1_t131_loop v2402 v2404).trips) (k1_t133 : Fin (k1_t133_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t133
  let v3026 : BitVec 32 := Scalar.addi v2976 arg46
  let v3087 : Index := Scalar.indexCast v3026
  let c192_1458 : Index := 192#32
  ![v3087.toNat, 192]
def k1_off1815 (v2402 : BitVec 32) (v2404 : BitVec 32) (k1_t131 : Fin (k1_t131_loop v2402 v2404).trips) (k1_t133 : Fin (k1_t133_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t133
  let v3026 : BitVec 32 := Scalar.addi v2976 arg46
  let v3092 : Index := Scalar.indexCast v3026
  let c208_1459 : Index := 208#32
  ![v3092.toNat, 208]
def k1_off1816 (v2402 : BitVec 32) (v2404 : BitVec 32) (k1_t131 : Fin (k1_t131_loop v2402 v2404).trips) (k1_t133 : Fin (k1_t133_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t133
  let v3026 : BitVec 32 := Scalar.addi v2976 arg46
  let v3097 : Index := Scalar.indexCast v3026
  let c224_1460 : Index := 224#32
  ![v3097.toNat, 224]
def k1_off1817 (v2402 : BitVec 32) (v2404 : BitVec 32) (k1_t131 : Fin (k1_t131_loop v2402 v2404).trips) (k1_t133 : Fin (k1_t133_loop v2402 v2404 k1_t131).trips) : Fin 2 → Nat :=
  let c2_i32_1408 : BitVec 32 := 2#32
  let c0_i32_1163 : BitVec 32 := 0#32
  let c1_i32_1165 : BitVec 32 := 1#32
  let arg13 : BitVec 32 := Scf.iv c0_i32_1163 c1_i32_1165 k1_t131
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t133
  let v3026 : BitVec 32 := Scalar.addi v2976 arg46
  let v3102 : Index := Scalar.indexCast v3026
  let c240_1461 : Index := 240#32
  ![v3102.toNat, 240]
def k1_off1818 (i : grid1.Coords) (v2402 : BitVec 32) (v2404 : BitVec 32) (k1_t131 : Fin (k1_t131_loop v2402 v2404).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v2402 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond121 (v2402 : BitVec 32) (v2404 : BitVec 32) (k1_t131 : Fin (k1_t131_loop v2402 v2404).trips) : BitVec 1 :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let v2989 : BitVec 1 := Scalar.cmpi .slt v2988 v2426
  let v2990 : BitVec 32 := Scalar.extui v2989
  let c0_i32_1428 : BitVec 32 := 0#32
  let v2991 : BitVec 1 := Scalar.cmpi .ne v2990 c0_i32_1428
  v2991

def k1_off1819 (i : grid1.Coords) (v2402 : BitVec 32) (v2404 : BitVec 32) (k1_t131 : Fin (k1_t131_loop v2402 v2404).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v2402 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond122 (v2402 : BitVec 32) (v2404 : BitVec 32) (k1_t131 : Fin (k1_t131_loop v2402 v2404).trips) : BitVec 1 :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let v3050 : BitVec 1 := Scalar.cmpi .slt v3049 v2426
  let v3051 : BitVec 32 := Scalar.extui v3050
  let c0_i32_1457 : BitVec 32 := 0#32
  let v3052 : BitVec 1 := Scalar.cmpi .ne v3051 c0_i32_1457
  v3052

@[reducible] def k1_t134_loop (v2402 : BitVec 32) (v2404 : BitVec 32) (k1_t131 : Fin (k1_t131_loop v2402 v2404).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off1820 (v2402 : BitVec 32) (v2404 : BitVec 32) (k1_t131 : Fin (k1_t131_loop v2402 v2404).trips) (k1_t134 : Fin (k1_t134_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t134
  let v3026 : BitVec 32 := Scalar.addi v3015 arg46
  let v3027 : Index := Scalar.indexCast v3026
  let c0_1446 : Index := 0#32
  ![v3027.toNat, 0]
def k1_off1821 (v2402 : BitVec 32) (v2404 : BitVec 32) (k1_t131 : Fin (k1_t131_loop v2402 v2404).trips) (k1_t134 : Fin (k1_t134_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t134
  let v3026 : BitVec 32 := Scalar.addi v3015 arg46
  let v3032 : Index := Scalar.indexCast v3026
  let c16_1447 : Index := 16#32
  ![v3032.toNat, 16]
def k1_off1822 (v2402 : BitVec 32) (v2404 : BitVec 32) (k1_t131 : Fin (k1_t131_loop v2402 v2404).trips) (k1_t134 : Fin (k1_t134_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t134
  let v3026 : BitVec 32 := Scalar.addi v3015 arg46
  let v3037 : Index := Scalar.indexCast v3026
  let c32_1448 : Index := 32#32
  ![v3037.toNat, 32]
def k1_off1823 (v2402 : BitVec 32) (v2404 : BitVec 32) (k1_t131 : Fin (k1_t131_loop v2402 v2404).trips) (k1_t134 : Fin (k1_t134_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t134
  let v3026 : BitVec 32 := Scalar.addi v3015 arg46
  let v3042 : Index := Scalar.indexCast v3026
  let c48_1449 : Index := 48#32
  ![v3042.toNat, 48]
def k1_off1824 (v2402 : BitVec 32) (v2404 : BitVec 32) (k1_t131 : Fin (k1_t131_loop v2402 v2404).trips) (k1_t134 : Fin (k1_t134_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t134
  let v3026 : BitVec 32 := Scalar.addi v3015 arg46
  let v3047 : Index := Scalar.indexCast v3026
  let c64_1450 : Index := 64#32
  ![v3047.toNat, 64]
def k1_off1825 (v2402 : BitVec 32) (v2404 : BitVec 32) (k1_t131 : Fin (k1_t131_loop v2402 v2404).trips) (k1_t134 : Fin (k1_t134_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t134
  let v3026 : BitVec 32 := Scalar.addi v3015 arg46
  let v3052 : Index := Scalar.indexCast v3026
  let c80_1451 : Index := 80#32
  ![v3052.toNat, 80]
def k1_off1826 (v2402 : BitVec 32) (v2404 : BitVec 32) (k1_t131 : Fin (k1_t131_loop v2402 v2404).trips) (k1_t134 : Fin (k1_t134_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t134
  let v3026 : BitVec 32 := Scalar.addi v3015 arg46
  let v3057 : Index := Scalar.indexCast v3026
  let c96_1452 : Index := 96#32
  ![v3057.toNat, 96]
def k1_off1827 (v2402 : BitVec 32) (v2404 : BitVec 32) (k1_t131 : Fin (k1_t131_loop v2402 v2404).trips) (k1_t134 : Fin (k1_t134_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t134
  let v3026 : BitVec 32 := Scalar.addi v3015 arg46
  let v3062 : Index := Scalar.indexCast v3026
  let c112_1453 : Index := 112#32
  ![v3062.toNat, 112]
def k1_off1828 (v2402 : BitVec 32) (v2404 : BitVec 32) (k1_t131 : Fin (k1_t131_loop v2402 v2404).trips) (k1_t134 : Fin (k1_t134_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t134
  let v3026 : BitVec 32 := Scalar.addi v3015 arg46
  let v3067 : Index := Scalar.indexCast v3026
  let c128_1454 : Index := 128#32
  ![v3067.toNat, 128]
def k1_off1829 (v2402 : BitVec 32) (v2404 : BitVec 32) (k1_t131 : Fin (k1_t131_loop v2402 v2404).trips) (k1_t134 : Fin (k1_t134_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t134
  let v3026 : BitVec 32 := Scalar.addi v3015 arg46
  let v3072 : Index := Scalar.indexCast v3026
  let c144_1455 : Index := 144#32
  ![v3072.toNat, 144]
def k1_off1830 (v2402 : BitVec 32) (v2404 : BitVec 32) (k1_t131 : Fin (k1_t131_loop v2402 v2404).trips) (k1_t134 : Fin (k1_t134_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t134
  let v3026 : BitVec 32 := Scalar.addi v3015 arg46
  let v3077 : Index := Scalar.indexCast v3026
  let c160_1456 : Index := 160#32
  ![v3077.toNat, 160]
def k1_off1831 (v2402 : BitVec 32) (v2404 : BitVec 32) (k1_t131 : Fin (k1_t131_loop v2402 v2404).trips) (k1_t134 : Fin (k1_t134_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t134
  let v3026 : BitVec 32 := Scalar.addi v3015 arg46
  let v3082 : Index := Scalar.indexCast v3026
  let c176_1457 : Index := 176#32
  ![v3082.toNat, 176]
def k1_off1832 (v2402 : BitVec 32) (v2404 : BitVec 32) (k1_t131 : Fin (k1_t131_loop v2402 v2404).trips) (k1_t134 : Fin (k1_t134_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t134
  let v3026 : BitVec 32 := Scalar.addi v3015 arg46
  let v3087 : Index := Scalar.indexCast v3026
  let c192_1458 : Index := 192#32
  ![v3087.toNat, 192]
def k1_off1833 (v2402 : BitVec 32) (v2404 : BitVec 32) (k1_t131 : Fin (k1_t131_loop v2402 v2404).trips) (k1_t134 : Fin (k1_t134_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t134
  let v3026 : BitVec 32 := Scalar.addi v3015 arg46
  let v3092 : Index := Scalar.indexCast v3026
  let c208_1459 : Index := 208#32
  ![v3092.toNat, 208]
def k1_off1834 (v2402 : BitVec 32) (v2404 : BitVec 32) (k1_t131 : Fin (k1_t131_loop v2402 v2404).trips) (k1_t134 : Fin (k1_t134_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t134
  let v3026 : BitVec 32 := Scalar.addi v3015 arg46
  let v3097 : Index := Scalar.indexCast v3026
  let c224_1460 : Index := 224#32
  ![v3097.toNat, 224]
def k1_off1835 (v2402 : BitVec 32) (v2404 : BitVec 32) (k1_t131 : Fin (k1_t131_loop v2402 v2404).trips) (k1_t134 : Fin (k1_t134_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t134
  let v3026 : BitVec 32 := Scalar.addi v3015 arg46
  let v3102 : Index := Scalar.indexCast v3026
  let c240_1461 : Index := 240#32
  ![v3102.toNat, 240]
@[reducible] def k1_t135_loop (v2402 : BitVec 32) (v2404 : BitVec 32) (k1_t131 : Fin (k1_t131_loop v2402 v2404).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off1836 (v2402 : BitVec 32) (v2404 : BitVec 32) (k1_t131 : Fin (k1_t131_loop v2402 v2404).trips) (k1_t135 : Fin (k1_t135_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t135
  let v3026 : BitVec 32 := Scalar.addi v3015 arg46
  let v3027 : Index := Scalar.indexCast v3026
  let c0_1446 : Index := 0#32
  ![v3027.toNat, 0]
def k1_off1837 (v2402 : BitVec 32) (v2404 : BitVec 32) (k1_t131 : Fin (k1_t131_loop v2402 v2404).trips) (k1_t135 : Fin (k1_t135_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t135
  let v3026 : BitVec 32 := Scalar.addi v3015 arg46
  let v3032 : Index := Scalar.indexCast v3026
  let c16_1447 : Index := 16#32
  ![v3032.toNat, 16]
def k1_off1838 (v2402 : BitVec 32) (v2404 : BitVec 32) (k1_t131 : Fin (k1_t131_loop v2402 v2404).trips) (k1_t135 : Fin (k1_t135_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t135
  let v3026 : BitVec 32 := Scalar.addi v3015 arg46
  let v3037 : Index := Scalar.indexCast v3026
  let c32_1448 : Index := 32#32
  ![v3037.toNat, 32]
def k1_off1839 (v2402 : BitVec 32) (v2404 : BitVec 32) (k1_t131 : Fin (k1_t131_loop v2402 v2404).trips) (k1_t135 : Fin (k1_t135_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t135
  let v3026 : BitVec 32 := Scalar.addi v3015 arg46
  let v3042 : Index := Scalar.indexCast v3026
  let c48_1449 : Index := 48#32
  ![v3042.toNat, 48]
def k1_off1840 (v2402 : BitVec 32) (v2404 : BitVec 32) (k1_t131 : Fin (k1_t131_loop v2402 v2404).trips) (k1_t135 : Fin (k1_t135_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t135
  let v3026 : BitVec 32 := Scalar.addi v3015 arg46
  let v3047 : Index := Scalar.indexCast v3026
  let c64_1450 : Index := 64#32
  ![v3047.toNat, 64]
def k1_off1841 (v2402 : BitVec 32) (v2404 : BitVec 32) (k1_t131 : Fin (k1_t131_loop v2402 v2404).trips) (k1_t135 : Fin (k1_t135_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t135
  let v3026 : BitVec 32 := Scalar.addi v3015 arg46
  let v3052 : Index := Scalar.indexCast v3026
  let c80_1451 : Index := 80#32
  ![v3052.toNat, 80]
def k1_off1842 (v2402 : BitVec 32) (v2404 : BitVec 32) (k1_t131 : Fin (k1_t131_loop v2402 v2404).trips) (k1_t135 : Fin (k1_t135_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t135
  let v3026 : BitVec 32 := Scalar.addi v3015 arg46
  let v3057 : Index := Scalar.indexCast v3026
  let c96_1452 : Index := 96#32
  ![v3057.toNat, 96]
def k1_off1843 (v2402 : BitVec 32) (v2404 : BitVec 32) (k1_t131 : Fin (k1_t131_loop v2402 v2404).trips) (k1_t135 : Fin (k1_t135_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t135
  let v3026 : BitVec 32 := Scalar.addi v3015 arg46
  let v3062 : Index := Scalar.indexCast v3026
  let c112_1453 : Index := 112#32
  ![v3062.toNat, 112]
def k1_off1844 (v2402 : BitVec 32) (v2404 : BitVec 32) (k1_t131 : Fin (k1_t131_loop v2402 v2404).trips) (k1_t135 : Fin (k1_t135_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t135
  let v3026 : BitVec 32 := Scalar.addi v3015 arg46
  let v3067 : Index := Scalar.indexCast v3026
  let c128_1454 : Index := 128#32
  ![v3067.toNat, 128]
def k1_off1845 (v2402 : BitVec 32) (v2404 : BitVec 32) (k1_t131 : Fin (k1_t131_loop v2402 v2404).trips) (k1_t135 : Fin (k1_t135_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t135
  let v3026 : BitVec 32 := Scalar.addi v3015 arg46
  let v3072 : Index := Scalar.indexCast v3026
  let c144_1455 : Index := 144#32
  ![v3072.toNat, 144]
def k1_off1846 (v2402 : BitVec 32) (v2404 : BitVec 32) (k1_t131 : Fin (k1_t131_loop v2402 v2404).trips) (k1_t135 : Fin (k1_t135_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t135
  let v3026 : BitVec 32 := Scalar.addi v3015 arg46
  let v3077 : Index := Scalar.indexCast v3026
  let c160_1456 : Index := 160#32
  ![v3077.toNat, 160]
def k1_off1847 (v2402 : BitVec 32) (v2404 : BitVec 32) (k1_t131 : Fin (k1_t131_loop v2402 v2404).trips) (k1_t135 : Fin (k1_t135_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t135
  let v3026 : BitVec 32 := Scalar.addi v3015 arg46
  let v3082 : Index := Scalar.indexCast v3026
  let c176_1457 : Index := 176#32
  ![v3082.toNat, 176]
def k1_off1848 (v2402 : BitVec 32) (v2404 : BitVec 32) (k1_t131 : Fin (k1_t131_loop v2402 v2404).trips) (k1_t135 : Fin (k1_t135_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t135
  let v3026 : BitVec 32 := Scalar.addi v3015 arg46
  let v3087 : Index := Scalar.indexCast v3026
  let c192_1458 : Index := 192#32
  ![v3087.toNat, 192]
def k1_off1849 (v2402 : BitVec 32) (v2404 : BitVec 32) (k1_t131 : Fin (k1_t131_loop v2402 v2404).trips) (k1_t135 : Fin (k1_t135_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t135
  let v3026 : BitVec 32 := Scalar.addi v3015 arg46
  let v3092 : Index := Scalar.indexCast v3026
  let c208_1459 : Index := 208#32
  ![v3092.toNat, 208]
def k1_off1850 (v2402 : BitVec 32) (v2404 : BitVec 32) (k1_t131 : Fin (k1_t131_loop v2402 v2404).trips) (k1_t135 : Fin (k1_t135_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t135
  let v3026 : BitVec 32 := Scalar.addi v3015 arg46
  let v3097 : Index := Scalar.indexCast v3026
  let c224_1460 : Index := 224#32
  ![v3097.toNat, 224]
def k1_off1851 (v2402 : BitVec 32) (v2404 : BitVec 32) (k1_t131 : Fin (k1_t131_loop v2402 v2404).trips) (k1_t135 : Fin (k1_t135_loop v2402 v2404 k1_t131).trips) : Fin 2 → Nat :=
  let c2_i32_1426 : BitVec 32 := 2#32
  let c0_i32_1163 : BitVec 32 := 0#32
  let c1_i32_1165 : BitVec 32 := 1#32
  let arg13 : BitVec 32 := Scf.iv c0_i32_1163 c1_i32_1165 k1_t131
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t135
  let v3026 : BitVec 32 := Scalar.addi v3015 arg46
  let v3102 : Index := Scalar.indexCast v3026
  let c240_1461 : Index := 240#32
  ![v3102.toNat, 240]
@[reducible] def k1_t136_loop (v2402 : BitVec 32) (v2404 : BitVec 32) : Scf.Loop 32 :=
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let v2449 : BitVec 32 := Scalar.addi c0_i32_1163 v2448
  let c1_i32_1166 : BitVec 32 := 1#32
  ⟨v2452, v2449, c1_i32_1166⟩
def k1_off1852 (i : grid1.Coords) (v2402 : BitVec 32) (v2404 : BitVec 32) (k1_t136 : Fin (k1_t136_loop v2402 v2404).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1446 : BitVec 32 := 64#32
  let v3026 : BitVec 32 := Scalar.muli v2949 c64_i32_1446
  let v3027 : BitVec 32 := Scalar.addi v2402 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond123 (v2402 : BitVec 32) (v2404 : BitVec 32) (k1_t136 : Fin (k1_t136_loop v2402 v2404).trips) : BitVec 1 :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let v2950 : BitVec 1 := Scalar.cmpi .slt v2949 v2426
  let v2951 : BitVec 32 := Scalar.extui v2950
  let c0_i32_1409 : BitVec 32 := 0#32
  let v2952 : BitVec 1 := Scalar.cmpi .ne v2951 c0_i32_1409
  v2952

def k1_off1853 (i : grid1.Coords) (v2402 : BitVec 32) (v2404 : BitVec 32) (k1_t136 : Fin (k1_t136_loop v2402 v2404).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v2402 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond124 (v2402 : BitVec 32) (v2404 : BitVec 32) (k1_t136 : Fin (k1_t136_loop v2402 v2404).trips) : BitVec 1 :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c1_i32_1456 : BitVec 32 := 1#32
  let v3049 : BitVec 32 := Scalar.addi v2949 c1_i32_1456
  let v3050 : BitVec 1 := Scalar.cmpi .slt v3049 v2426
  let v3051 : BitVec 32 := Scalar.extui v3050
  let c0_i32_1457 : BitVec 32 := 0#32
  let v3052 : BitVec 1 := Scalar.cmpi .ne v3051 c0_i32_1457
  v3052

@[reducible] def k1_t137_loop (v2402 : BitVec 32) (v2404 : BitVec 32) (k1_t136 : Fin (k1_t136_loop v2402 v2404).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off1854 (v2402 : BitVec 32) (v2404 : BitVec 32) (k1_t136 : Fin (k1_t136_loop v2402 v2404).trips) (k1_t137 : Fin (k1_t137_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t137
  let v3026 : BitVec 32 := Scalar.addi v2976 arg46
  let v3027 : Index := Scalar.indexCast v3026
  let c0_1446 : Index := 0#32
  ![v3027.toNat, 0]
def k1_off1855 (v2402 : BitVec 32) (v2404 : BitVec 32) (k1_t136 : Fin (k1_t136_loop v2402 v2404).trips) (k1_t137 : Fin (k1_t137_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t137
  let v3026 : BitVec 32 := Scalar.addi v2976 arg46
  let v3032 : Index := Scalar.indexCast v3026
  let c16_1447 : Index := 16#32
  ![v3032.toNat, 16]
def k1_off1856 (v2402 : BitVec 32) (v2404 : BitVec 32) (k1_t136 : Fin (k1_t136_loop v2402 v2404).trips) (k1_t137 : Fin (k1_t137_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t137
  let v3026 : BitVec 32 := Scalar.addi v2976 arg46
  let v3037 : Index := Scalar.indexCast v3026
  let c32_1448 : Index := 32#32
  ![v3037.toNat, 32]
def k1_off1857 (v2402 : BitVec 32) (v2404 : BitVec 32) (k1_t136 : Fin (k1_t136_loop v2402 v2404).trips) (k1_t137 : Fin (k1_t137_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t137
  let v3026 : BitVec 32 := Scalar.addi v2976 arg46
  let v3042 : Index := Scalar.indexCast v3026
  let c48_1449 : Index := 48#32
  ![v3042.toNat, 48]
def k1_off1858 (v2402 : BitVec 32) (v2404 : BitVec 32) (k1_t136 : Fin (k1_t136_loop v2402 v2404).trips) (k1_t137 : Fin (k1_t137_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t137
  let v3026 : BitVec 32 := Scalar.addi v2976 arg46
  let v3047 : Index := Scalar.indexCast v3026
  let c64_1450 : Index := 64#32
  ![v3047.toNat, 64]
def k1_off1859 (v2402 : BitVec 32) (v2404 : BitVec 32) (k1_t136 : Fin (k1_t136_loop v2402 v2404).trips) (k1_t137 : Fin (k1_t137_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t137
  let v3026 : BitVec 32 := Scalar.addi v2976 arg46
  let v3052 : Index := Scalar.indexCast v3026
  let c80_1451 : Index := 80#32
  ![v3052.toNat, 80]
def k1_off1860 (v2402 : BitVec 32) (v2404 : BitVec 32) (k1_t136 : Fin (k1_t136_loop v2402 v2404).trips) (k1_t137 : Fin (k1_t137_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t137
  let v3026 : BitVec 32 := Scalar.addi v2976 arg46
  let v3057 : Index := Scalar.indexCast v3026
  let c96_1452 : Index := 96#32
  ![v3057.toNat, 96]
def k1_off1861 (v2402 : BitVec 32) (v2404 : BitVec 32) (k1_t136 : Fin (k1_t136_loop v2402 v2404).trips) (k1_t137 : Fin (k1_t137_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t137
  let v3026 : BitVec 32 := Scalar.addi v2976 arg46
  let v3062 : Index := Scalar.indexCast v3026
  let c112_1453 : Index := 112#32
  ![v3062.toNat, 112]
def k1_off1862 (v2402 : BitVec 32) (v2404 : BitVec 32) (k1_t136 : Fin (k1_t136_loop v2402 v2404).trips) (k1_t137 : Fin (k1_t137_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t137
  let v3026 : BitVec 32 := Scalar.addi v2976 arg46
  let v3067 : Index := Scalar.indexCast v3026
  let c128_1454 : Index := 128#32
  ![v3067.toNat, 128]
def k1_off1863 (v2402 : BitVec 32) (v2404 : BitVec 32) (k1_t136 : Fin (k1_t136_loop v2402 v2404).trips) (k1_t137 : Fin (k1_t137_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t137
  let v3026 : BitVec 32 := Scalar.addi v2976 arg46
  let v3072 : Index := Scalar.indexCast v3026
  let c144_1455 : Index := 144#32
  ![v3072.toNat, 144]
def k1_off1864 (v2402 : BitVec 32) (v2404 : BitVec 32) (k1_t136 : Fin (k1_t136_loop v2402 v2404).trips) (k1_t137 : Fin (k1_t137_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t137
  let v3026 : BitVec 32 := Scalar.addi v2976 arg46
  let v3077 : Index := Scalar.indexCast v3026
  let c160_1456 : Index := 160#32
  ![v3077.toNat, 160]
def k1_off1865 (v2402 : BitVec 32) (v2404 : BitVec 32) (k1_t136 : Fin (k1_t136_loop v2402 v2404).trips) (k1_t137 : Fin (k1_t137_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t137
  let v3026 : BitVec 32 := Scalar.addi v2976 arg46
  let v3082 : Index := Scalar.indexCast v3026
  let c176_1457 : Index := 176#32
  ![v3082.toNat, 176]
def k1_off1866 (v2402 : BitVec 32) (v2404 : BitVec 32) (k1_t136 : Fin (k1_t136_loop v2402 v2404).trips) (k1_t137 : Fin (k1_t137_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t137
  let v3026 : BitVec 32 := Scalar.addi v2976 arg46
  let v3087 : Index := Scalar.indexCast v3026
  let c192_1458 : Index := 192#32
  ![v3087.toNat, 192]
def k1_off1867 (v2402 : BitVec 32) (v2404 : BitVec 32) (k1_t136 : Fin (k1_t136_loop v2402 v2404).trips) (k1_t137 : Fin (k1_t137_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t137
  let v3026 : BitVec 32 := Scalar.addi v2976 arg46
  let v3092 : Index := Scalar.indexCast v3026
  let c208_1459 : Index := 208#32
  ![v3092.toNat, 208]
def k1_off1868 (v2402 : BitVec 32) (v2404 : BitVec 32) (k1_t136 : Fin (k1_t136_loop v2402 v2404).trips) (k1_t137 : Fin (k1_t137_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t137
  let v3026 : BitVec 32 := Scalar.addi v2976 arg46
  let v3097 : Index := Scalar.indexCast v3026
  let c224_1460 : Index := 224#32
  ![v3097.toNat, 224]
def k1_off1869 (v2402 : BitVec 32) (v2404 : BitVec 32) (k1_t136 : Fin (k1_t136_loop v2402 v2404).trips) (k1_t137 : Fin (k1_t137_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t137
  let v3026 : BitVec 32 := Scalar.addi v2976 arg46
  let v3102 : Index := Scalar.indexCast v3026
  let c240_1461 : Index := 240#32
  ![v3102.toNat, 240]
@[reducible] def k1_t138_loop (v2402 : BitVec 32) (v2404 : BitVec 32) (k1_t136 : Fin (k1_t136_loop v2402 v2404).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off1870 (v2402 : BitVec 32) (v2404 : BitVec 32) (k1_t136 : Fin (k1_t136_loop v2402 v2404).trips) (k1_t138 : Fin (k1_t138_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t138
  let v3026 : BitVec 32 := Scalar.addi v2976 arg46
  let v3027 : Index := Scalar.indexCast v3026
  let c0_1446 : Index := 0#32
  ![v3027.toNat, 0]
def k1_off1871 (v2402 : BitVec 32) (v2404 : BitVec 32) (k1_t136 : Fin (k1_t136_loop v2402 v2404).trips) (k1_t138 : Fin (k1_t138_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t138
  let v3026 : BitVec 32 := Scalar.addi v2976 arg46
  let v3032 : Index := Scalar.indexCast v3026
  let c16_1447 : Index := 16#32
  ![v3032.toNat, 16]
def k1_off1872 (v2402 : BitVec 32) (v2404 : BitVec 32) (k1_t136 : Fin (k1_t136_loop v2402 v2404).trips) (k1_t138 : Fin (k1_t138_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t138
  let v3026 : BitVec 32 := Scalar.addi v2976 arg46
  let v3037 : Index := Scalar.indexCast v3026
  let c32_1448 : Index := 32#32
  ![v3037.toNat, 32]
def k1_off1873 (v2402 : BitVec 32) (v2404 : BitVec 32) (k1_t136 : Fin (k1_t136_loop v2402 v2404).trips) (k1_t138 : Fin (k1_t138_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t138
  let v3026 : BitVec 32 := Scalar.addi v2976 arg46
  let v3042 : Index := Scalar.indexCast v3026
  let c48_1449 : Index := 48#32
  ![v3042.toNat, 48]
def k1_off1874 (v2402 : BitVec 32) (v2404 : BitVec 32) (k1_t136 : Fin (k1_t136_loop v2402 v2404).trips) (k1_t138 : Fin (k1_t138_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t138
  let v3026 : BitVec 32 := Scalar.addi v2976 arg46
  let v3047 : Index := Scalar.indexCast v3026
  let c64_1450 : Index := 64#32
  ![v3047.toNat, 64]
def k1_off1875 (v2402 : BitVec 32) (v2404 : BitVec 32) (k1_t136 : Fin (k1_t136_loop v2402 v2404).trips) (k1_t138 : Fin (k1_t138_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t138
  let v3026 : BitVec 32 := Scalar.addi v2976 arg46
  let v3052 : Index := Scalar.indexCast v3026
  let c80_1451 : Index := 80#32
  ![v3052.toNat, 80]
def k1_off1876 (v2402 : BitVec 32) (v2404 : BitVec 32) (k1_t136 : Fin (k1_t136_loop v2402 v2404).trips) (k1_t138 : Fin (k1_t138_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t138
  let v3026 : BitVec 32 := Scalar.addi v2976 arg46
  let v3057 : Index := Scalar.indexCast v3026
  let c96_1452 : Index := 96#32
  ![v3057.toNat, 96]
def k1_off1877 (v2402 : BitVec 32) (v2404 : BitVec 32) (k1_t136 : Fin (k1_t136_loop v2402 v2404).trips) (k1_t138 : Fin (k1_t138_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t138
  let v3026 : BitVec 32 := Scalar.addi v2976 arg46
  let v3062 : Index := Scalar.indexCast v3026
  let c112_1453 : Index := 112#32
  ![v3062.toNat, 112]
def k1_off1878 (v2402 : BitVec 32) (v2404 : BitVec 32) (k1_t136 : Fin (k1_t136_loop v2402 v2404).trips) (k1_t138 : Fin (k1_t138_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t138
  let v3026 : BitVec 32 := Scalar.addi v2976 arg46
  let v3067 : Index := Scalar.indexCast v3026
  let c128_1454 : Index := 128#32
  ![v3067.toNat, 128]
def k1_off1879 (v2402 : BitVec 32) (v2404 : BitVec 32) (k1_t136 : Fin (k1_t136_loop v2402 v2404).trips) (k1_t138 : Fin (k1_t138_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t138
  let v3026 : BitVec 32 := Scalar.addi v2976 arg46
  let v3072 : Index := Scalar.indexCast v3026
  let c144_1455 : Index := 144#32
  ![v3072.toNat, 144]
def k1_off1880 (v2402 : BitVec 32) (v2404 : BitVec 32) (k1_t136 : Fin (k1_t136_loop v2402 v2404).trips) (k1_t138 : Fin (k1_t138_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t138
  let v3026 : BitVec 32 := Scalar.addi v2976 arg46
  let v3077 : Index := Scalar.indexCast v3026
  let c160_1456 : Index := 160#32
  ![v3077.toNat, 160]
def k1_off1881 (v2402 : BitVec 32) (v2404 : BitVec 32) (k1_t136 : Fin (k1_t136_loop v2402 v2404).trips) (k1_t138 : Fin (k1_t138_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t138
  let v3026 : BitVec 32 := Scalar.addi v2976 arg46
  let v3082 : Index := Scalar.indexCast v3026
  let c176_1457 : Index := 176#32
  ![v3082.toNat, 176]
def k1_off1882 (v2402 : BitVec 32) (v2404 : BitVec 32) (k1_t136 : Fin (k1_t136_loop v2402 v2404).trips) (k1_t138 : Fin (k1_t138_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t138
  let v3026 : BitVec 32 := Scalar.addi v2976 arg46
  let v3087 : Index := Scalar.indexCast v3026
  let c192_1458 : Index := 192#32
  ![v3087.toNat, 192]
def k1_off1883 (v2402 : BitVec 32) (v2404 : BitVec 32) (k1_t136 : Fin (k1_t136_loop v2402 v2404).trips) (k1_t138 : Fin (k1_t138_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t138
  let v3026 : BitVec 32 := Scalar.addi v2976 arg46
  let v3092 : Index := Scalar.indexCast v3026
  let c208_1459 : Index := 208#32
  ![v3092.toNat, 208]
def k1_off1884 (v2402 : BitVec 32) (v2404 : BitVec 32) (k1_t136 : Fin (k1_t136_loop v2402 v2404).trips) (k1_t138 : Fin (k1_t138_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t138
  let v3026 : BitVec 32 := Scalar.addi v2976 arg46
  let v3097 : Index := Scalar.indexCast v3026
  let c224_1460 : Index := 224#32
  ![v3097.toNat, 224]
def k1_off1885 (v2402 : BitVec 32) (v2404 : BitVec 32) (k1_t136 : Fin (k1_t136_loop v2402 v2404).trips) (k1_t138 : Fin (k1_t138_loop v2402 v2404 k1_t136).trips) : Fin 2 → Nat :=
  let c2_i32_1408 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2949 : BitVec 32 := Scalar.muli c2_i32_1408 arg13
  let c64_i32_1410 : BitVec 32 := 64#32
  let v2953 : BitVec 32 := Scalar.muli v2949 c64_i32_1410
  let v2954 : BitVec 32 := Scalar.addi v2402 v2953
  let c64_i32_1411 : BitVec 32 := 64#32
  let v2955 : BitVec 32 := Scalar.muli v2949 c64_i32_1411
  let v2956 : BitVec 32 := Scalar.addi v2402 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2404 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t138
  let v3026 : BitVec 32 := Scalar.addi v2976 arg46
  let v3102 : Index := Scalar.indexCast v3026
  let c240_1461 : Index := 240#32
  ![v3102.toNat, 240]
def k1_off1886 (i : grid1.Coords) (v2402 : BitVec 32) (v2404 : BitVec 32) (k1_t136 : Fin (k1_t136_loop v2402 v2404).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v2402 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond125 (v2402 : BitVec 32) (v2404 : BitVec 32) (k1_t136 : Fin (k1_t136_loop v2402 v2404).trips) : BitVec 1 :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let v2989 : BitVec 1 := Scalar.cmpi .slt v2988 v2426
  let v2990 : BitVec 32 := Scalar.extui v2989
  let c0_i32_1428 : BitVec 32 := 0#32
  let v2991 : BitVec 1 := Scalar.cmpi .ne v2990 c0_i32_1428
  v2991

def k1_off1887 (i : grid1.Coords) (v2402 : BitVec 32) (v2404 : BitVec 32) (k1_t136 : Fin (k1_t136_loop v2402 v2404).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v2402 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond126 (v2402 : BitVec 32) (v2404 : BitVec 32) (k1_t136 : Fin (k1_t136_loop v2402 v2404).trips) : BitVec 1 :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v3050 : BitVec 1 := Scalar.cmpi .slt v3049 v2426
  let v3051 : BitVec 32 := Scalar.extui v3050
  let c0_i32_1457 : BitVec 32 := 0#32
  let v3052 : BitVec 1 := Scalar.cmpi .ne v3051 c0_i32_1457
  v3052

@[reducible] def k1_t139_loop (v2402 : BitVec 32) (v2404 : BitVec 32) (k1_t136 : Fin (k1_t136_loop v2402 v2404).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off1888 (v2402 : BitVec 32) (v2404 : BitVec 32) (k1_t136 : Fin (k1_t136_loop v2402 v2404).trips) (k1_t139 : Fin (k1_t139_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t139
  let v3026 : BitVec 32 := Scalar.addi v3015 arg46
  let v3027 : Index := Scalar.indexCast v3026
  let c0_1446 : Index := 0#32
  ![v3027.toNat, 0]
def k1_off1889 (v2402 : BitVec 32) (v2404 : BitVec 32) (k1_t136 : Fin (k1_t136_loop v2402 v2404).trips) (k1_t139 : Fin (k1_t139_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t139
  let v3026 : BitVec 32 := Scalar.addi v3015 arg46
  let v3032 : Index := Scalar.indexCast v3026
  let c16_1447 : Index := 16#32
  ![v3032.toNat, 16]
def k1_off1890 (v2402 : BitVec 32) (v2404 : BitVec 32) (k1_t136 : Fin (k1_t136_loop v2402 v2404).trips) (k1_t139 : Fin (k1_t139_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t139
  let v3026 : BitVec 32 := Scalar.addi v3015 arg46
  let v3037 : Index := Scalar.indexCast v3026
  let c32_1448 : Index := 32#32
  ![v3037.toNat, 32]
def k1_off1891 (v2402 : BitVec 32) (v2404 : BitVec 32) (k1_t136 : Fin (k1_t136_loop v2402 v2404).trips) (k1_t139 : Fin (k1_t139_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t139
  let v3026 : BitVec 32 := Scalar.addi v3015 arg46
  let v3042 : Index := Scalar.indexCast v3026
  let c48_1449 : Index := 48#32
  ![v3042.toNat, 48]
def k1_off1892 (v2402 : BitVec 32) (v2404 : BitVec 32) (k1_t136 : Fin (k1_t136_loop v2402 v2404).trips) (k1_t139 : Fin (k1_t139_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t139
  let v3026 : BitVec 32 := Scalar.addi v3015 arg46
  let v3047 : Index := Scalar.indexCast v3026
  let c64_1450 : Index := 64#32
  ![v3047.toNat, 64]
def k1_off1893 (v2402 : BitVec 32) (v2404 : BitVec 32) (k1_t136 : Fin (k1_t136_loop v2402 v2404).trips) (k1_t139 : Fin (k1_t139_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t139
  let v3026 : BitVec 32 := Scalar.addi v3015 arg46
  let v3052 : Index := Scalar.indexCast v3026
  let c80_1451 : Index := 80#32
  ![v3052.toNat, 80]
def k1_off1894 (v2402 : BitVec 32) (v2404 : BitVec 32) (k1_t136 : Fin (k1_t136_loop v2402 v2404).trips) (k1_t139 : Fin (k1_t139_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t139
  let v3026 : BitVec 32 := Scalar.addi v3015 arg46
  let v3057 : Index := Scalar.indexCast v3026
  let c96_1452 : Index := 96#32
  ![v3057.toNat, 96]
def k1_off1895 (v2402 : BitVec 32) (v2404 : BitVec 32) (k1_t136 : Fin (k1_t136_loop v2402 v2404).trips) (k1_t139 : Fin (k1_t139_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t139
  let v3026 : BitVec 32 := Scalar.addi v3015 arg46
  let v3062 : Index := Scalar.indexCast v3026
  let c112_1453 : Index := 112#32
  ![v3062.toNat, 112]
def k1_off1896 (v2402 : BitVec 32) (v2404 : BitVec 32) (k1_t136 : Fin (k1_t136_loop v2402 v2404).trips) (k1_t139 : Fin (k1_t139_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t139
  let v3026 : BitVec 32 := Scalar.addi v3015 arg46
  let v3067 : Index := Scalar.indexCast v3026
  let c128_1454 : Index := 128#32
  ![v3067.toNat, 128]
def k1_off1897 (v2402 : BitVec 32) (v2404 : BitVec 32) (k1_t136 : Fin (k1_t136_loop v2402 v2404).trips) (k1_t139 : Fin (k1_t139_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t139
  let v3026 : BitVec 32 := Scalar.addi v3015 arg46
  let v3072 : Index := Scalar.indexCast v3026
  let c144_1455 : Index := 144#32
  ![v3072.toNat, 144]
def k1_off1898 (v2402 : BitVec 32) (v2404 : BitVec 32) (k1_t136 : Fin (k1_t136_loop v2402 v2404).trips) (k1_t139 : Fin (k1_t139_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t139
  let v3026 : BitVec 32 := Scalar.addi v3015 arg46
  let v3077 : Index := Scalar.indexCast v3026
  let c160_1456 : Index := 160#32
  ![v3077.toNat, 160]
def k1_off1899 (v2402 : BitVec 32) (v2404 : BitVec 32) (k1_t136 : Fin (k1_t136_loop v2402 v2404).trips) (k1_t139 : Fin (k1_t139_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t139
  let v3026 : BitVec 32 := Scalar.addi v3015 arg46
  let v3082 : Index := Scalar.indexCast v3026
  let c176_1457 : Index := 176#32
  ![v3082.toNat, 176]
def k1_off1900 (v2402 : BitVec 32) (v2404 : BitVec 32) (k1_t136 : Fin (k1_t136_loop v2402 v2404).trips) (k1_t139 : Fin (k1_t139_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t139
  let v3026 : BitVec 32 := Scalar.addi v3015 arg46
  let v3087 : Index := Scalar.indexCast v3026
  let c192_1458 : Index := 192#32
  ![v3087.toNat, 192]
def k1_off1901 (v2402 : BitVec 32) (v2404 : BitVec 32) (k1_t136 : Fin (k1_t136_loop v2402 v2404).trips) (k1_t139 : Fin (k1_t139_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t139
  let v3026 : BitVec 32 := Scalar.addi v3015 arg46
  let v3092 : Index := Scalar.indexCast v3026
  let c208_1459 : Index := 208#32
  ![v3092.toNat, 208]
def k1_off1902 (v2402 : BitVec 32) (v2404 : BitVec 32) (k1_t136 : Fin (k1_t136_loop v2402 v2404).trips) (k1_t139 : Fin (k1_t139_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t139
  let v3026 : BitVec 32 := Scalar.addi v3015 arg46
  let v3097 : Index := Scalar.indexCast v3026
  let c224_1460 : Index := 224#32
  ![v3097.toNat, 224]

variable {F : FTy → Type} [FloatOps F]

def k1_off1903 (v2402 : BitVec 32) (v2404 : BitVec 32) (k1_t136 : Fin (k1_t136_loop v2402 v2404).trips) (k1_t139 : Fin (k1_t139_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t139
  let v3026 : BitVec 32 := Scalar.addi v3015 arg46
  let v3102 : Index := Scalar.indexCast v3026
  let c240_1461 : Index := 240#32
  ![v3102.toNat, 240]
@[reducible] def k1_t140_loop (v2402 : BitVec 32) (v2404 : BitVec 32) (k1_t136 : Fin (k1_t136_loop v2402 v2404).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off1904 (v2402 : BitVec 32) (v2404 : BitVec 32) (k1_t136 : Fin (k1_t136_loop v2402 v2404).trips) (k1_t140 : Fin (k1_t140_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t140
  let v3026 : BitVec 32 := Scalar.addi v3015 arg46
  let v3027 : Index := Scalar.indexCast v3026
  let c0_1446 : Index := 0#32
  ![v3027.toNat, 0]
def k1_off1905 (v2402 : BitVec 32) (v2404 : BitVec 32) (k1_t136 : Fin (k1_t136_loop v2402 v2404).trips) (k1_t140 : Fin (k1_t140_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t140
  let v3026 : BitVec 32 := Scalar.addi v3015 arg46
  let v3032 : Index := Scalar.indexCast v3026
  let c16_1447 : Index := 16#32
  ![v3032.toNat, 16]
def k1_off1906 (v2402 : BitVec 32) (v2404 : BitVec 32) (k1_t136 : Fin (k1_t136_loop v2402 v2404).trips) (k1_t140 : Fin (k1_t140_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t140
  let v3026 : BitVec 32 := Scalar.addi v3015 arg46
  let v3037 : Index := Scalar.indexCast v3026
  let c32_1448 : Index := 32#32
  ![v3037.toNat, 32]
def k1_off1907 (v2402 : BitVec 32) (v2404 : BitVec 32) (k1_t136 : Fin (k1_t136_loop v2402 v2404).trips) (k1_t140 : Fin (k1_t140_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t140
  let v3026 : BitVec 32 := Scalar.addi v3015 arg46
  let v3042 : Index := Scalar.indexCast v3026
  let c48_1449 : Index := 48#32
  ![v3042.toNat, 48]
def k1_off1908 (v2402 : BitVec 32) (v2404 : BitVec 32) (k1_t136 : Fin (k1_t136_loop v2402 v2404).trips) (k1_t140 : Fin (k1_t140_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t140
  let v3026 : BitVec 32 := Scalar.addi v3015 arg46
  let v3047 : Index := Scalar.indexCast v3026
  let c64_1450 : Index := 64#32
  ![v3047.toNat, 64]
def k1_off1909 (v2402 : BitVec 32) (v2404 : BitVec 32) (k1_t136 : Fin (k1_t136_loop v2402 v2404).trips) (k1_t140 : Fin (k1_t140_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t140
  let v3026 : BitVec 32 := Scalar.addi v3015 arg46
  let v3052 : Index := Scalar.indexCast v3026
  let c80_1451 : Index := 80#32
  ![v3052.toNat, 80]
def k1_off1910 (v2402 : BitVec 32) (v2404 : BitVec 32) (k1_t136 : Fin (k1_t136_loop v2402 v2404).trips) (k1_t140 : Fin (k1_t140_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t140
  let v3026 : BitVec 32 := Scalar.addi v3015 arg46
  let v3057 : Index := Scalar.indexCast v3026
  let c96_1452 : Index := 96#32
  ![v3057.toNat, 96]
def k1_off1911 (v2402 : BitVec 32) (v2404 : BitVec 32) (k1_t136 : Fin (k1_t136_loop v2402 v2404).trips) (k1_t140 : Fin (k1_t140_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t140
  let v3026 : BitVec 32 := Scalar.addi v3015 arg46
  let v3062 : Index := Scalar.indexCast v3026
  let c112_1453 : Index := 112#32
  ![v3062.toNat, 112]
def k1_off1912 (v2402 : BitVec 32) (v2404 : BitVec 32) (k1_t136 : Fin (k1_t136_loop v2402 v2404).trips) (k1_t140 : Fin (k1_t140_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t140
  let v3026 : BitVec 32 := Scalar.addi v3015 arg46
  let v3067 : Index := Scalar.indexCast v3026
  let c128_1454 : Index := 128#32
  ![v3067.toNat, 128]
def k1_off1913 (v2402 : BitVec 32) (v2404 : BitVec 32) (k1_t136 : Fin (k1_t136_loop v2402 v2404).trips) (k1_t140 : Fin (k1_t140_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t140
  let v3026 : BitVec 32 := Scalar.addi v3015 arg46
  let v3072 : Index := Scalar.indexCast v3026
  let c144_1455 : Index := 144#32
  ![v3072.toNat, 144]
def k1_off1914 (v2402 : BitVec 32) (v2404 : BitVec 32) (k1_t136 : Fin (k1_t136_loop v2402 v2404).trips) (k1_t140 : Fin (k1_t140_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t140
  let v3026 : BitVec 32 := Scalar.addi v3015 arg46
  let v3077 : Index := Scalar.indexCast v3026
  let c160_1456 : Index := 160#32
  ![v3077.toNat, 160]
def k1_off1915 (v2402 : BitVec 32) (v2404 : BitVec 32) (k1_t136 : Fin (k1_t136_loop v2402 v2404).trips) (k1_t140 : Fin (k1_t140_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t140
  let v3026 : BitVec 32 := Scalar.addi v3015 arg46
  let v3082 : Index := Scalar.indexCast v3026
  let c176_1457 : Index := 176#32
  ![v3082.toNat, 176]
def k1_off1916 (v2402 : BitVec 32) (v2404 : BitVec 32) (k1_t136 : Fin (k1_t136_loop v2402 v2404).trips) (k1_t140 : Fin (k1_t140_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t140
  let v3026 : BitVec 32 := Scalar.addi v3015 arg46
  let v3087 : Index := Scalar.indexCast v3026
  let c192_1458 : Index := 192#32
  ![v3087.toNat, 192]
def k1_off1917 (v2402 : BitVec 32) (v2404 : BitVec 32) (k1_t136 : Fin (k1_t136_loop v2402 v2404).trips) (k1_t140 : Fin (k1_t140_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t140
  let v3026 : BitVec 32 := Scalar.addi v3015 arg46
  let v3092 : Index := Scalar.indexCast v3026
  let c208_1459 : Index := 208#32
  ![v3092.toNat, 208]
def k1_off1918 (v2402 : BitVec 32) (v2404 : BitVec 32) (k1_t136 : Fin (k1_t136_loop v2402 v2404).trips) (k1_t140 : Fin (k1_t140_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t140
  let v3026 : BitVec 32 := Scalar.addi v3015 arg46
  let v3097 : Index := Scalar.indexCast v3026
  let c224_1460 : Index := 224#32
  ![v3097.toNat, 224]
def k1_off1919 (v2402 : BitVec 32) (v2404 : BitVec 32) (k1_t136 : Fin (k1_t136_loop v2402 v2404).trips) (k1_t140 : Fin (k1_t140_loop v2402 v2404 k1_t136).trips) : Fin 2 → Nat :=
  let c2_i32_1426 : BitVec 32 := 2#32
  let c0_i32_1163 : BitVec 32 := 0#32
  let v2407 : BitVec 32 := Scalar.subi v2404 v2402
  let c64_i32_1144 : BitVec 32 := 64#32
  let v2408 : BitVec 32 := Scalar.addi v2407 c64_i32_1144
  let c1_i32_1145 : BitVec 32 := 1#32
  let v2409 : BitVec 32 := Scalar.subi v2408 c1_i32_1145
  let c0_i32_1147 : BitVec 32 := 0#32
  let v2411 : BitVec 1 := Scalar.cmpi .sgt v2409 c0_i32_1147
  let v2412 : BitVec 32 := Scalar.extui v2411
  let c0_i32_1148 : BitVec 32 := 0#32
  let v2413 : BitVec 1 := Scalar.cmpi .slt v2409 c0_i32_1148
  let v2414 : BitVec 32 := Scalar.extui v2413
  let v2415 : BitVec 32 := Scalar.subi v2412 v2414
  let c64_i32_1146 : BitVec 32 := 64#32
  let c0_i32_1149 : BitVec 32 := 0#32
  let v2416 : BitVec 1 := Scalar.cmpi .sgt c64_i32_1146 c0_i32_1149
  let v2417 : BitVec 32 := Scalar.extui v2416
  let c0_i32_1150 : BitVec 32 := 0#32
  let v2418 : BitVec 1 := Scalar.cmpi .slt c64_i32_1146 c0_i32_1150
  let v2419 : BitVec 32 := Scalar.extui v2418
  let v2420 : BitVec 32 := Scalar.subi v2417 v2419
  let v2421 : BitVec 1 := Scalar.cmpi .ne v2415 v2420
  let v2422 : BitVec 32 := Scalar.remsi v2409 c64_i32_1146
  let c0_i32_1151 : BitVec 32 := 0#32
  let v2423 : BitVec 1 := Scalar.cmpi .ne v2422 c0_i32_1151
  let v2424 : BitVec 1 := Scalar.andi v2421 v2423
  let v2410 : BitVec 32 := Scalar.divsi v2409 c64_i32_1146
  let c1_i32_1152 : BitVec 32 := 1#32
  let v2425 : BitVec 32 := Scalar.subi v2410 c1_i32_1152
  let v2426 : BitVec 32 := Scalar.select v2424 v2425 v2410
  let c1_i32_1155 : BitVec 32 := 1#32
  let v2430 : BitVec 32 := Scalar.addi v2426 c1_i32_1155
  let c0_i32_1157 : BitVec 32 := 0#32
  let v2432 : BitVec 1 := Scalar.cmpi .sgt v2430 c0_i32_1157
  let v2433 : BitVec 32 := Scalar.extui v2432
  let c0_i32_1158 : BitVec 32 := 0#32
  let v2434 : BitVec 1 := Scalar.cmpi .slt v2430 c0_i32_1158
  let v2435 : BitVec 32 := Scalar.extui v2434
  let v2436 : BitVec 32 := Scalar.subi v2433 v2435
  let c2_i32_1156 : BitVec 32 := 2#32
  let c0_i32_1159 : BitVec 32 := 0#32
  let v2437 : BitVec 1 := Scalar.cmpi .sgt c2_i32_1156 c0_i32_1159
  let v2438 : BitVec 32 := Scalar.extui v2437
  let c0_i32_1160 : BitVec 32 := 0#32
  let v2439 : BitVec 1 := Scalar.cmpi .slt c2_i32_1156 c0_i32_1160
  let v2440 : BitVec 32 := Scalar.extui v2439
  let v2441 : BitVec 32 := Scalar.subi v2438 v2440
  let v2442 : BitVec 1 := Scalar.cmpi .ne v2436 v2441
  let v2443 : BitVec 32 := Scalar.remsi v2430 c2_i32_1156
  let c0_i32_1161 : BitVec 32 := 0#32
  let v2444 : BitVec 1 := Scalar.cmpi .ne v2443 c0_i32_1161
  let v2445 : BitVec 1 := Scalar.andi v2442 v2444
  let v2431 : BitVec 32 := Scalar.divsi v2430 c2_i32_1156
  let c1_i32_1162 : BitVec 32 := 1#32
  let v2446 : BitVec 32 := Scalar.subi v2431 c1_i32_1162
  let v2447 : BitVec 32 := Scalar.select v2445 v2446 v2431
  let v2448 : BitVec 32 := Scalar.subi v2447 c0_i32_1163
  let c1_i32_1164 : BitVec 32 := 1#32
  let v2450 : BitVec 32 := Scalar.divsi v2448 c1_i32_1164
  let v2451 : BitVec 32 := Scalar.muli v2450 c1_i32_1164
  let v2452 : BitVec 32 := Scalar.addi c0_i32_1163 v2451
  let c1_i32_1166 : BitVec 32 := 1#32
  let arg13 : BitVec 32 := Scf.iv v2452 c1_i32_1166 k1_t136
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2402 v2992
  let c64_i32_1430 : BitVec 32 := 64#32
  let v2994 : BitVec 32 := Scalar.muli v2988 c64_i32_1430
  let v2995 : BitVec 32 := Scalar.addi v2402 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2404 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t140
  let v3026 : BitVec 32 := Scalar.addi v3015 arg46
  let v3102 : Index := Scalar.indexCast v3026
  let c240_1461 : Index := 240#32
  ![v3102.toNat, 240]

def k1_chk14_0 (i : grid1.Coords) (v2402 : BitVec 32) (v2404 : BitVec 32) : Prop :=
  (∀ (k1_h118 : k1_cond118 v2402 v2404 = 1#1), ∀ a, (k1_off1783 i v2402) a + S72x256.size a ≤ S100000x512.size a) ∧
  ((k1_t131_loop v2402 v2404).OK) ∧
  (∀ k1_t131 : Fin (k1_t131_loop v2402 v2404).trips, ∀ (k1_h119 : k1_cond119 v2402 v2404 k1_t131 = 1#1), ∀ a, (k1_off1784 i v2402 v2404 k1_t131) a + S72x256.size a ≤ S100000x512.size a) ∧
  (∀ k1_t131 : Fin (k1_t131_loop v2402 v2404).trips, ∀ (k1_h119 : k1_cond119 v2402 v2404 k1_t131 = 1#1), ∀ (k1_h120 : k1_cond120 v2402 v2404 k1_t131 = 1#1), ∀ a, (k1_off1785 i v2402 v2404 k1_t131) a + S72x256.size a ≤ S100000x512.size a) ∧
  (∀ k1_t131 : Fin (k1_t131_loop v2402 v2404).trips, (k1_t132_loop v2402 v2404 k1_t131).OK) ∧
  (∀ (k1_t131 : Fin (k1_t131_loop v2402 v2404).trips) (k1_t132 : Fin (k1_t132_loop v2402 v2404 k1_t131).trips), ∀ a, (k1_off1786 v2402 v2404 k1_t131 k1_t132) a + S1x16.size a ≤ S72x256.size a) ∧
  (∀ (k1_t131 : Fin (k1_t131_loop v2402 v2404).trips) (k1_t132 : Fin (k1_t132_loop v2402 v2404 k1_t131).trips), ∀ a, (k1_off1787 v2402 v2404 k1_t131 k1_t132) a + S1x16.size a ≤ S72x256.size a) ∧
  (∀ (k1_t131 : Fin (k1_t131_loop v2402 v2404).trips) (k1_t132 : Fin (k1_t132_loop v2402 v2404 k1_t131).trips), ∀ a, (k1_off1788 v2402 v2404 k1_t131 k1_t132) a + S1x16.size a ≤ S72x256.size a) ∧
  (∀ (k1_t131 : Fin (k1_t131_loop v2402 v2404).trips) (k1_t132 : Fin (k1_t132_loop v2402 v2404 k1_t131).trips), ∀ a, (k1_off1789 v2402 v2404 k1_t131 k1_t132) a + S1x16.size a ≤ S72x256.size a) ∧
  (∀ (k1_t131 : Fin (k1_t131_loop v2402 v2404).trips) (k1_t132 : Fin (k1_t132_loop v2402 v2404 k1_t131).trips), ∀ a, (k1_off1790 v2402 v2404 k1_t131 k1_t132) a + S1x16.size a ≤ S72x256.size a) ∧
  (∀ (k1_t131 : Fin (k1_t131_loop v2402 v2404).trips) (k1_t132 : Fin (k1_t132_loop v2402 v2404 k1_t131).trips), ∀ a, (k1_off1791 v2402 v2404 k1_t131 k1_t132) a + S1x16.size a ≤ S72x256.size a) ∧
  (∀ (k1_t131 : Fin (k1_t131_loop v2402 v2404).trips) (k1_t132 : Fin (k1_t132_loop v2402 v2404 k1_t131).trips), ∀ a, (k1_off1792 v2402 v2404 k1_t131 k1_t132) a + S1x16.size a ≤ S72x256.size a) ∧
  (∀ (k1_t131 : Fin (k1_t131_loop v2402 v2404).trips) (k1_t132 : Fin (k1_t132_loop v2402 v2404 k1_t131).trips), ∀ a, (k1_off1793 v2402 v2404 k1_t131 k1_t132) a + S1x16.size a ≤ S72x256.size a) ∧
  (∀ (k1_t131 : Fin (k1_t131_loop v2402 v2404).trips) (k1_t132 : Fin (k1_t132_loop v2402 v2404 k1_t131).trips), ∀ a, (k1_off1794 v2402 v2404 k1_t131 k1_t132) a + S1x16.size a ≤ S72x256.size a) ∧
  (∀ (k1_t131 : Fin (k1_t131_loop v2402 v2404).trips) (k1_t132 : Fin (k1_t132_loop v2402 v2404 k1_t131).trips), ∀ a, (k1_off1795 v2402 v2404 k1_t131 k1_t132) a + S1x16.size a ≤ S72x256.size a) ∧
  (∀ (k1_t131 : Fin (k1_t131_loop v2402 v2404).trips) (k1_t132 : Fin (k1_t132_loop v2402 v2404 k1_t131).trips), ∀ a, (k1_off1796 v2402 v2404 k1_t131 k1_t132) a + S1x16.size a ≤ S72x256.size a) ∧
  (∀ (k1_t131 : Fin (k1_t131_loop v2402 v2404).trips) (k1_t132 : Fin (k1_t132_loop v2402 v2404 k1_t131).trips), ∀ a, (k1_off1797 v2402 v2404 k1_t131 k1_t132) a + S1x16.size a ≤ S72x256.size a) ∧
  (∀ (k1_t131 : Fin (k1_t131_loop v2402 v2404).trips) (k1_t132 : Fin (k1_t132_loop v2402 v2404 k1_t131).trips), ∀ a, (k1_off1798 v2402 v2404 k1_t131 k1_t132) a + S1x16.size a ≤ S72x256.size a) ∧
  (∀ (k1_t131 : Fin (k1_t131_loop v2402 v2404).trips) (k1_t132 : Fin (k1_t132_loop v2402 v2404 k1_t131).trips), ∀ a, (k1_off1799 v2402 v2404 k1_t131 k1_t132) a + S1x16.size a ≤ S72x256.size a) ∧
  (∀ (k1_t131 : Fin (k1_t131_loop v2402 v2404).trips) (k1_t132 : Fin (k1_t132_loop v2402 v2404 k1_t131).trips), ∀ a, (k1_off1800 v2402 v2404 k1_t131 k1_t132) a + S1x16.size a ≤ S72x256.size a) ∧
  (∀ (k1_t131 : Fin (k1_t131_loop v2402 v2404).trips) (k1_t132 : Fin (k1_t132_loop v2402 v2404 k1_t131).trips), ∀ a, (k1_off1801 v2402 v2404 k1_t131 k1_t132) a + S1x16.size a ≤ S72x256.size a) ∧
  (∀ k1_t131 : Fin (k1_t131_loop v2402 v2404).trips, (k1_t133_loop v2402 v2404 k1_t131).OK) ∧
  (∀ (k1_t131 : Fin (k1_t131_loop v2402 v2404).trips) (k1_t133 : Fin (k1_t133_loop v2402 v2404 k1_t131).trips), ∀ a, (k1_off1802 v2402 v2404 k1_t131 k1_t133) a + S1x16.size a ≤ S72x256.size a) ∧
  (∀ (k1_t131 : Fin (k1_t131_loop v2402 v2404).trips) (k1_t133 : Fin (k1_t133_loop v2402 v2404 k1_t131).trips), ∀ a, (k1_off1803 v2402 v2404 k1_t131 k1_t133) a + S1x16.size a ≤ S72x256.size a) ∧
  (∀ (k1_t131 : Fin (k1_t131_loop v2402 v2404).trips) (k1_t133 : Fin (k1_t133_loop v2402 v2404 k1_t131).trips), ∀ a, (k1_off1804 v2402 v2404 k1_t131 k1_t133) a + S1x16.size a ≤ S72x256.size a) ∧
  (∀ (k1_t131 : Fin (k1_t131_loop v2402 v2404).trips) (k1_t133 : Fin (k1_t133_loop v2402 v2404 k1_t131).trips), ∀ a, (k1_off1805 v2402 v2404 k1_t131 k1_t133) a + S1x16.size a ≤ S72x256.size a) ∧
  (∀ (k1_t131 : Fin (k1_t131_loop v2402 v2404).trips) (k1_t133 : Fin (k1_t133_loop v2402 v2404 k1_t131).trips), ∀ a, (k1_off1806 v2402 v2404 k1_t131 k1_t133) a + S1x16.size a ≤ S72x256.size a) ∧
  (∀ (k1_t131 : Fin (k1_t131_loop v2402 v2404).trips) (k1_t133 : Fin (k1_t133_loop v2402 v2404 k1_t131).trips), ∀ a, (k1_off1807 v2402 v2404 k1_t131 k1_t133) a + S1x16.size a ≤ S72x256.size a) ∧
  (∀ (k1_t131 : Fin (k1_t131_loop v2402 v2404).trips) (k1_t133 : Fin (k1_t133_loop v2402 v2404 k1_t131).trips), ∀ a, (k1_off1808 v2402 v2404 k1_t131 k1_t133) a + S1x16.size a ≤ S72x256.size a) ∧
  (∀ (k1_t131 : Fin (k1_t131_loop v2402 v2404).trips) (k1_t133 : Fin (k1_t133_loop v2402 v2404 k1_t131).trips), ∀ a, (k1_off1809 v2402 v2404 k1_t131 k1_t133) a + S1x16.size a ≤ S72x256.size a) ∧
  (∀ (k1_t131 : Fin (k1_t131_loop v2402 v2404).trips) (k1_t133 : Fin (k1_t133_loop v2402 v2404 k1_t131).trips), ∀ a, (k1_off1810 v2402 v2404 k1_t131 k1_t133) a + S1x16.size a ≤ S72x256.size a) ∧
  (∀ (k1_t131 : Fin (k1_t131_loop v2402 v2404).trips) (k1_t133 : Fin (k1_t133_loop v2402 v2404 k1_t131).trips), ∀ a, (k1_off1811 v2402 v2404 k1_t131 k1_t133) a + S1x16.size a ≤ S72x256.size a)
def k1_chk14_1 (i : grid1.Coords) (v2402 : BitVec 32) (v2404 : BitVec 32) : Prop :=
  (∀ (k1_t131 : Fin (k1_t131_loop v2402 v2404).trips) (k1_t133 : Fin (k1_t133_loop v2402 v2404 k1_t131).trips), ∀ a, (k1_off1812 v2402 v2404 k1_t131 k1_t133) a + S1x16.size a ≤ S72x256.size a) ∧
  (∀ (k1_t131 : Fin (k1_t131_loop v2402 v2404).trips) (k1_t133 : Fin (k1_t133_loop v2402 v2404 k1_t131).trips), ∀ a, (k1_off1813 v2402 v2404 k1_t131 k1_t133) a + S1x16.size a ≤ S72x256.size a) ∧
  (∀ (k1_t131 : Fin (k1_t131_loop v2402 v2404).trips) (k1_t133 : Fin (k1_t133_loop v2402 v2404 k1_t131).trips), ∀ a, (k1_off1814 v2402 v2404 k1_t131 k1_t133) a + S1x16.size a ≤ S72x256.size a) ∧
  (∀ (k1_t131 : Fin (k1_t131_loop v2402 v2404).trips) (k1_t133 : Fin (k1_t133_loop v2402 v2404 k1_t131).trips), ∀ a, (k1_off1815 v2402 v2404 k1_t131 k1_t133) a + S1x16.size a ≤ S72x256.size a) ∧
  (∀ (k1_t131 : Fin (k1_t131_loop v2402 v2404).trips) (k1_t133 : Fin (k1_t133_loop v2402 v2404 k1_t131).trips), ∀ a, (k1_off1816 v2402 v2404 k1_t131 k1_t133) a + S1x16.size a ≤ S72x256.size a) ∧
  (∀ (k1_t131 : Fin (k1_t131_loop v2402 v2404).trips) (k1_t133 : Fin (k1_t133_loop v2402 v2404 k1_t131).trips), ∀ a, (k1_off1817 v2402 v2404 k1_t131 k1_t133) a + S1x16.size a ≤ S72x256.size a) ∧
  (∀ k1_t131 : Fin (k1_t131_loop v2402 v2404).trips, ∀ (k1_h121 : k1_cond121 v2402 v2404 k1_t131 = 1#1), ∀ a, (k1_off1818 i v2402 v2404 k1_t131) a + S72x256.size a ≤ S100000x512.size a) ∧
  (∀ k1_t131 : Fin (k1_t131_loop v2402 v2404).trips, ∀ (k1_h121 : k1_cond121 v2402 v2404 k1_t131 = 1#1), ∀ (k1_h122 : k1_cond122 v2402 v2404 k1_t131 = 1#1), ∀ a, (k1_off1819 i v2402 v2404 k1_t131) a + S72x256.size a ≤ S100000x512.size a) ∧
  (∀ k1_t131 : Fin (k1_t131_loop v2402 v2404).trips, (k1_t134_loop v2402 v2404 k1_t131).OK) ∧
  (∀ (k1_t131 : Fin (k1_t131_loop v2402 v2404).trips) (k1_t134 : Fin (k1_t134_loop v2402 v2404 k1_t131).trips), ∀ a, (k1_off1820 v2402 v2404 k1_t131 k1_t134) a + S1x16.size a ≤ S72x256.size a) ∧
  (∀ (k1_t131 : Fin (k1_t131_loop v2402 v2404).trips) (k1_t134 : Fin (k1_t134_loop v2402 v2404 k1_t131).trips), ∀ a, (k1_off1821 v2402 v2404 k1_t131 k1_t134) a + S1x16.size a ≤ S72x256.size a) ∧
  (∀ (k1_t131 : Fin (k1_t131_loop v2402 v2404).trips) (k1_t134 : Fin (k1_t134_loop v2402 v2404 k1_t131).trips), ∀ a, (k1_off1822 v2402 v2404 k1_t131 k1_t134) a + S1x16.size a ≤ S72x256.size a) ∧
  (∀ (k1_t131 : Fin (k1_t131_loop v2402 v2404).trips) (k1_t134 : Fin (k1_t134_loop v2402 v2404 k1_t131).trips), ∀ a, (k1_off1823 v2402 v2404 k1_t131 k1_t134) a + S1x16.size a ≤ S72x256.size a) ∧
  (∀ (k1_t131 : Fin (k1_t131_loop v2402 v2404).trips) (k1_t134 : Fin (k1_t134_loop v2402 v2404 k1_t131).trips), ∀ a, (k1_off1824 v2402 v2404 k1_t131 k1_t134) a + S1x16.size a ≤ S72x256.size a) ∧
  (∀ (k1_t131 : Fin (k1_t131_loop v2402 v2404).trips) (k1_t134 : Fin (k1_t134_loop v2402 v2404 k1_t131).trips), ∀ a, (k1_off1825 v2402 v2404 k1_t131 k1_t134) a + S1x16.size a ≤ S72x256.size a) ∧
  (∀ (k1_t131 : Fin (k1_t131_loop v2402 v2404).trips) (k1_t134 : Fin (k1_t134_loop v2402 v2404 k1_t131).trips), ∀ a, (k1_off1826 v2402 v2404 k1_t131 k1_t134) a + S1x16.size a ≤ S72x256.size a) ∧
  (∀ (k1_t131 : Fin (k1_t131_loop v2402 v2404).trips) (k1_t134 : Fin (k1_t134_loop v2402 v2404 k1_t131).trips), ∀ a, (k1_off1827 v2402 v2404 k1_t131 k1_t134) a + S1x16.size a ≤ S72x256.size a) ∧
  (∀ (k1_t131 : Fin (k1_t131_loop v2402 v2404).trips) (k1_t134 : Fin (k1_t134_loop v2402 v2404 k1_t131).trips), ∀ a, (k1_off1828 v2402 v2404 k1_t131 k1_t134) a + S1x16.size a ≤ S72x256.size a) ∧
  (∀ (k1_t131 : Fin (k1_t131_loop v2402 v2404).trips) (k1_t134 : Fin (k1_t134_loop v2402 v2404 k1_t131).trips), ∀ a, (k1_off1829 v2402 v2404 k1_t131 k1_t134) a + S1x16.size a ≤ S72x256.size a) ∧
  (∀ (k1_t131 : Fin (k1_t131_loop v2402 v2404).trips) (k1_t134 : Fin (k1_t134_loop v2402 v2404 k1_t131).trips), ∀ a, (k1_off1830 v2402 v2404 k1_t131 k1_t134) a + S1x16.size a ≤ S72x256.size a) ∧
  (∀ (k1_t131 : Fin (k1_t131_loop v2402 v2404).trips) (k1_t134 : Fin (k1_t134_loop v2402 v2404 k1_t131).trips), ∀ a, (k1_off1831 v2402 v2404 k1_t131 k1_t134) a + S1x16.size a ≤ S72x256.size a) ∧
  (∀ (k1_t131 : Fin (k1_t131_loop v2402 v2404).trips) (k1_t134 : Fin (k1_t134_loop v2402 v2404 k1_t131).trips), ∀ a, (k1_off1832 v2402 v2404 k1_t131 k1_t134) a + S1x16.size a ≤ S72x256.size a) ∧
  (∀ (k1_t131 : Fin (k1_t131_loop v2402 v2404).trips) (k1_t134 : Fin (k1_t134_loop v2402 v2404 k1_t131).trips), ∀ a, (k1_off1833 v2402 v2404 k1_t131 k1_t134) a + S1x16.size a ≤ S72x256.size a) ∧
  (∀ (k1_t131 : Fin (k1_t131_loop v2402 v2404).trips) (k1_t134 : Fin (k1_t134_loop v2402 v2404 k1_t131).trips), ∀ a, (k1_off1834 v2402 v2404 k1_t131 k1_t134) a + S1x16.size a ≤ S72x256.size a) ∧
  (∀ (k1_t131 : Fin (k1_t131_loop v2402 v2404).trips) (k1_t134 : Fin (k1_t134_loop v2402 v2404 k1_t131).trips), ∀ a, (k1_off1835 v2402 v2404 k1_t131 k1_t134) a + S1x16.size a ≤ S72x256.size a) ∧
  (∀ k1_t131 : Fin (k1_t131_loop v2402 v2404).trips, (k1_t135_loop v2402 v2404 k1_t131).OK) ∧
  (∀ (k1_t131 : Fin (k1_t131_loop v2402 v2404).trips) (k1_t135 : Fin (k1_t135_loop v2402 v2404 k1_t131).trips), ∀ a, (k1_off1836 v2402 v2404 k1_t131 k1_t135) a + S1x16.size a ≤ S72x256.size a) ∧
  (∀ (k1_t131 : Fin (k1_t131_loop v2402 v2404).trips) (k1_t135 : Fin (k1_t135_loop v2402 v2404 k1_t131).trips), ∀ a, (k1_off1837 v2402 v2404 k1_t131 k1_t135) a + S1x16.size a ≤ S72x256.size a) ∧
  (∀ (k1_t131 : Fin (k1_t131_loop v2402 v2404).trips) (k1_t135 : Fin (k1_t135_loop v2402 v2404 k1_t131).trips), ∀ a, (k1_off1838 v2402 v2404 k1_t131 k1_t135) a + S1x16.size a ≤ S72x256.size a) ∧
  (∀ (k1_t131 : Fin (k1_t131_loop v2402 v2404).trips) (k1_t135 : Fin (k1_t135_loop v2402 v2404 k1_t131).trips), ∀ a, (k1_off1839 v2402 v2404 k1_t131 k1_t135) a + S1x16.size a ≤ S72x256.size a) ∧
  (∀ (k1_t131 : Fin (k1_t131_loop v2402 v2404).trips) (k1_t135 : Fin (k1_t135_loop v2402 v2404 k1_t131).trips), ∀ a, (k1_off1840 v2402 v2404 k1_t131 k1_t135) a + S1x16.size a ≤ S72x256.size a) ∧
  (∀ (k1_t131 : Fin (k1_t131_loop v2402 v2404).trips) (k1_t135 : Fin (k1_t135_loop v2402 v2404 k1_t131).trips), ∀ a, (k1_off1841 v2402 v2404 k1_t131 k1_t135) a + S1x16.size a ≤ S72x256.size a)
def k1_chk14_2 (i : grid1.Coords) (v2402 : BitVec 32) (v2404 : BitVec 32) : Prop :=
  (∀ (k1_t131 : Fin (k1_t131_loop v2402 v2404).trips) (k1_t135 : Fin (k1_t135_loop v2402 v2404 k1_t131).trips), ∀ a, (k1_off1842 v2402 v2404 k1_t131 k1_t135) a + S1x16.size a ≤ S72x256.size a) ∧
  (∀ (k1_t131 : Fin (k1_t131_loop v2402 v2404).trips) (k1_t135 : Fin (k1_t135_loop v2402 v2404 k1_t131).trips), ∀ a, (k1_off1843 v2402 v2404 k1_t131 k1_t135) a + S1x16.size a ≤ S72x256.size a) ∧
  (∀ (k1_t131 : Fin (k1_t131_loop v2402 v2404).trips) (k1_t135 : Fin (k1_t135_loop v2402 v2404 k1_t131).trips), ∀ a, (k1_off1844 v2402 v2404 k1_t131 k1_t135) a + S1x16.size a ≤ S72x256.size a) ∧
  (∀ (k1_t131 : Fin (k1_t131_loop v2402 v2404).trips) (k1_t135 : Fin (k1_t135_loop v2402 v2404 k1_t131).trips), ∀ a, (k1_off1845 v2402 v2404 k1_t131 k1_t135) a + S1x16.size a ≤ S72x256.size a) ∧
  (∀ (k1_t131 : Fin (k1_t131_loop v2402 v2404).trips) (k1_t135 : Fin (k1_t135_loop v2402 v2404 k1_t131).trips), ∀ a, (k1_off1846 v2402 v2404 k1_t131 k1_t135) a + S1x16.size a ≤ S72x256.size a) ∧
  (∀ (k1_t131 : Fin (k1_t131_loop v2402 v2404).trips) (k1_t135 : Fin (k1_t135_loop v2402 v2404 k1_t131).trips), ∀ a, (k1_off1847 v2402 v2404 k1_t131 k1_t135) a + S1x16.size a ≤ S72x256.size a) ∧
  (∀ (k1_t131 : Fin (k1_t131_loop v2402 v2404).trips) (k1_t135 : Fin (k1_t135_loop v2402 v2404 k1_t131).trips), ∀ a, (k1_off1848 v2402 v2404 k1_t131 k1_t135) a + S1x16.size a ≤ S72x256.size a) ∧
  (∀ (k1_t131 : Fin (k1_t131_loop v2402 v2404).trips) (k1_t135 : Fin (k1_t135_loop v2402 v2404 k1_t131).trips), ∀ a, (k1_off1849 v2402 v2404 k1_t131 k1_t135) a + S1x16.size a ≤ S72x256.size a) ∧
  (∀ (k1_t131 : Fin (k1_t131_loop v2402 v2404).trips) (k1_t135 : Fin (k1_t135_loop v2402 v2404 k1_t131).trips), ∀ a, (k1_off1850 v2402 v2404 k1_t131 k1_t135) a + S1x16.size a ≤ S72x256.size a) ∧
  (∀ (k1_t131 : Fin (k1_t131_loop v2402 v2404).trips) (k1_t135 : Fin (k1_t135_loop v2402 v2404 k1_t131).trips), ∀ a, (k1_off1851 v2402 v2404 k1_t131 k1_t135) a + S1x16.size a ≤ S72x256.size a) ∧
  ((k1_t136_loop v2402 v2404).OK) ∧
  (∀ k1_t136 : Fin (k1_t136_loop v2402 v2404).trips, ∀ (k1_h123 : k1_cond123 v2402 v2404 k1_t136 = 1#1), ∀ a, (k1_off1852 i v2402 v2404 k1_t136) a + S72x256.size a ≤ S100000x512.size a) ∧
  (∀ k1_t136 : Fin (k1_t136_loop v2402 v2404).trips, ∀ (k1_h123 : k1_cond123 v2402 v2404 k1_t136 = 1#1), ∀ (k1_h124 : k1_cond124 v2402 v2404 k1_t136 = 1#1), ∀ a, (k1_off1853 i v2402 v2404 k1_t136) a + S72x256.size a ≤ S100000x512.size a) ∧
  (∀ k1_t136 : Fin (k1_t136_loop v2402 v2404).trips, (k1_t137_loop v2402 v2404 k1_t136).OK) ∧
  (∀ (k1_t136 : Fin (k1_t136_loop v2402 v2404).trips) (k1_t137 : Fin (k1_t137_loop v2402 v2404 k1_t136).trips), ∀ a, (k1_off1854 v2402 v2404 k1_t136 k1_t137) a + S1x16.size a ≤ S72x256.size a) ∧
  (∀ (k1_t136 : Fin (k1_t136_loop v2402 v2404).trips) (k1_t137 : Fin (k1_t137_loop v2402 v2404 k1_t136).trips), ∀ a, (k1_off1855 v2402 v2404 k1_t136 k1_t137) a + S1x16.size a ≤ S72x256.size a) ∧
  (∀ (k1_t136 : Fin (k1_t136_loop v2402 v2404).trips) (k1_t137 : Fin (k1_t137_loop v2402 v2404 k1_t136).trips), ∀ a, (k1_off1856 v2402 v2404 k1_t136 k1_t137) a + S1x16.size a ≤ S72x256.size a) ∧
  (∀ (k1_t136 : Fin (k1_t136_loop v2402 v2404).trips) (k1_t137 : Fin (k1_t137_loop v2402 v2404 k1_t136).trips), ∀ a, (k1_off1857 v2402 v2404 k1_t136 k1_t137) a + S1x16.size a ≤ S72x256.size a) ∧
  (∀ (k1_t136 : Fin (k1_t136_loop v2402 v2404).trips) (k1_t137 : Fin (k1_t137_loop v2402 v2404 k1_t136).trips), ∀ a, (k1_off1858 v2402 v2404 k1_t136 k1_t137) a + S1x16.size a ≤ S72x256.size a) ∧
  (∀ (k1_t136 : Fin (k1_t136_loop v2402 v2404).trips) (k1_t137 : Fin (k1_t137_loop v2402 v2404 k1_t136).trips), ∀ a, (k1_off1859 v2402 v2404 k1_t136 k1_t137) a + S1x16.size a ≤ S72x256.size a) ∧
  (∀ (k1_t136 : Fin (k1_t136_loop v2402 v2404).trips) (k1_t137 : Fin (k1_t137_loop v2402 v2404 k1_t136).trips), ∀ a, (k1_off1860 v2402 v2404 k1_t136 k1_t137) a + S1x16.size a ≤ S72x256.size a) ∧
  (∀ (k1_t136 : Fin (k1_t136_loop v2402 v2404).trips) (k1_t137 : Fin (k1_t137_loop v2402 v2404 k1_t136).trips), ∀ a, (k1_off1861 v2402 v2404 k1_t136 k1_t137) a + S1x16.size a ≤ S72x256.size a) ∧
  (∀ (k1_t136 : Fin (k1_t136_loop v2402 v2404).trips) (k1_t137 : Fin (k1_t137_loop v2402 v2404 k1_t136).trips), ∀ a, (k1_off1862 v2402 v2404 k1_t136 k1_t137) a + S1x16.size a ≤ S72x256.size a) ∧
  (∀ (k1_t136 : Fin (k1_t136_loop v2402 v2404).trips) (k1_t137 : Fin (k1_t137_loop v2402 v2404 k1_t136).trips), ∀ a, (k1_off1863 v2402 v2404 k1_t136 k1_t137) a + S1x16.size a ≤ S72x256.size a) ∧
  (∀ (k1_t136 : Fin (k1_t136_loop v2402 v2404).trips) (k1_t137 : Fin (k1_t137_loop v2402 v2404 k1_t136).trips), ∀ a, (k1_off1864 v2402 v2404 k1_t136 k1_t137) a + S1x16.size a ≤ S72x256.size a) ∧
  (∀ (k1_t136 : Fin (k1_t136_loop v2402 v2404).trips) (k1_t137 : Fin (k1_t137_loop v2402 v2404 k1_t136).trips), ∀ a, (k1_off1865 v2402 v2404 k1_t136 k1_t137) a + S1x16.size a ≤ S72x256.size a) ∧
  (∀ (k1_t136 : Fin (k1_t136_loop v2402 v2404).trips) (k1_t137 : Fin (k1_t137_loop v2402 v2404 k1_t136).trips), ∀ a, (k1_off1866 v2402 v2404 k1_t136 k1_t137) a + S1x16.size a ≤ S72x256.size a) ∧
  (∀ (k1_t136 : Fin (k1_t136_loop v2402 v2404).trips) (k1_t137 : Fin (k1_t137_loop v2402 v2404 k1_t136).trips), ∀ a, (k1_off1867 v2402 v2404 k1_t136 k1_t137) a + S1x16.size a ≤ S72x256.size a) ∧
  (∀ (k1_t136 : Fin (k1_t136_loop v2402 v2404).trips) (k1_t137 : Fin (k1_t137_loop v2402 v2404 k1_t136).trips), ∀ a, (k1_off1868 v2402 v2404 k1_t136 k1_t137) a + S1x16.size a ≤ S72x256.size a) ∧
  (∀ (k1_t136 : Fin (k1_t136_loop v2402 v2404).trips) (k1_t137 : Fin (k1_t137_loop v2402 v2404 k1_t136).trips), ∀ a, (k1_off1869 v2402 v2404 k1_t136 k1_t137) a + S1x16.size a ≤ S72x256.size a) ∧
  (∀ k1_t136 : Fin (k1_t136_loop v2402 v2404).trips, (k1_t138_loop v2402 v2404 k1_t136).OK) ∧
  (∀ (k1_t136 : Fin (k1_t136_loop v2402 v2404).trips) (k1_t138 : Fin (k1_t138_loop v2402 v2404 k1_t136).trips), ∀ a, (k1_off1870 v2402 v2404 k1_t136 k1_t138) a + S1x16.size a ≤ S72x256.size a)
def k1_chk14_3 (i : grid1.Coords) (v2402 : BitVec 32) (v2404 : BitVec 32) : Prop :=
  (∀ (k1_t136 : Fin (k1_t136_loop v2402 v2404).trips) (k1_t138 : Fin (k1_t138_loop v2402 v2404 k1_t136).trips), ∀ a, (k1_off1871 v2402 v2404 k1_t136 k1_t138) a + S1x16.size a ≤ S72x256.size a) ∧
  (∀ (k1_t136 : Fin (k1_t136_loop v2402 v2404).trips) (k1_t138 : Fin (k1_t138_loop v2402 v2404 k1_t136).trips), ∀ a, (k1_off1872 v2402 v2404 k1_t136 k1_t138) a + S1x16.size a ≤ S72x256.size a) ∧
  (∀ (k1_t136 : Fin (k1_t136_loop v2402 v2404).trips) (k1_t138 : Fin (k1_t138_loop v2402 v2404 k1_t136).trips), ∀ a, (k1_off1873 v2402 v2404 k1_t136 k1_t138) a + S1x16.size a ≤ S72x256.size a) ∧
  (∀ (k1_t136 : Fin (k1_t136_loop v2402 v2404).trips) (k1_t138 : Fin (k1_t138_loop v2402 v2404 k1_t136).trips), ∀ a, (k1_off1874 v2402 v2404 k1_t136 k1_t138) a + S1x16.size a ≤ S72x256.size a) ∧
  (∀ (k1_t136 : Fin (k1_t136_loop v2402 v2404).trips) (k1_t138 : Fin (k1_t138_loop v2402 v2404 k1_t136).trips), ∀ a, (k1_off1875 v2402 v2404 k1_t136 k1_t138) a + S1x16.size a ≤ S72x256.size a) ∧
  (∀ (k1_t136 : Fin (k1_t136_loop v2402 v2404).trips) (k1_t138 : Fin (k1_t138_loop v2402 v2404 k1_t136).trips), ∀ a, (k1_off1876 v2402 v2404 k1_t136 k1_t138) a + S1x16.size a ≤ S72x256.size a) ∧
  (∀ (k1_t136 : Fin (k1_t136_loop v2402 v2404).trips) (k1_t138 : Fin (k1_t138_loop v2402 v2404 k1_t136).trips), ∀ a, (k1_off1877 v2402 v2404 k1_t136 k1_t138) a + S1x16.size a ≤ S72x256.size a) ∧
  (∀ (k1_t136 : Fin (k1_t136_loop v2402 v2404).trips) (k1_t138 : Fin (k1_t138_loop v2402 v2404 k1_t136).trips), ∀ a, (k1_off1878 v2402 v2404 k1_t136 k1_t138) a + S1x16.size a ≤ S72x256.size a) ∧
  (∀ (k1_t136 : Fin (k1_t136_loop v2402 v2404).trips) (k1_t138 : Fin (k1_t138_loop v2402 v2404 k1_t136).trips), ∀ a, (k1_off1879 v2402 v2404 k1_t136 k1_t138) a + S1x16.size a ≤ S72x256.size a) ∧
  (∀ (k1_t136 : Fin (k1_t136_loop v2402 v2404).trips) (k1_t138 : Fin (k1_t138_loop v2402 v2404 k1_t136).trips), ∀ a, (k1_off1880 v2402 v2404 k1_t136 k1_t138) a + S1x16.size a ≤ S72x256.size a) ∧
  (∀ (k1_t136 : Fin (k1_t136_loop v2402 v2404).trips) (k1_t138 : Fin (k1_t138_loop v2402 v2404 k1_t136).trips), ∀ a, (k1_off1881 v2402 v2404 k1_t136 k1_t138) a + S1x16.size a ≤ S72x256.size a) ∧
  (∀ (k1_t136 : Fin (k1_t136_loop v2402 v2404).trips) (k1_t138 : Fin (k1_t138_loop v2402 v2404 k1_t136).trips), ∀ a, (k1_off1882 v2402 v2404 k1_t136 k1_t138) a + S1x16.size a ≤ S72x256.size a) ∧
  (∀ (k1_t136 : Fin (k1_t136_loop v2402 v2404).trips) (k1_t138 : Fin (k1_t138_loop v2402 v2404 k1_t136).trips), ∀ a, (k1_off1883 v2402 v2404 k1_t136 k1_t138) a + S1x16.size a ≤ S72x256.size a) ∧
  (∀ (k1_t136 : Fin (k1_t136_loop v2402 v2404).trips) (k1_t138 : Fin (k1_t138_loop v2402 v2404 k1_t136).trips), ∀ a, (k1_off1884 v2402 v2404 k1_t136 k1_t138) a + S1x16.size a ≤ S72x256.size a) ∧
  (∀ (k1_t136 : Fin (k1_t136_loop v2402 v2404).trips) (k1_t138 : Fin (k1_t138_loop v2402 v2404 k1_t136).trips), ∀ a, (k1_off1885 v2402 v2404 k1_t136 k1_t138) a + S1x16.size a ≤ S72x256.size a) ∧
  (∀ k1_t136 : Fin (k1_t136_loop v2402 v2404).trips, ∀ (k1_h125 : k1_cond125 v2402 v2404 k1_t136 = 1#1), ∀ a, (k1_off1886 i v2402 v2404 k1_t136) a + S72x256.size a ≤ S100000x512.size a) ∧
  (∀ k1_t136 : Fin (k1_t136_loop v2402 v2404).trips, ∀ (k1_h125 : k1_cond125 v2402 v2404 k1_t136 = 1#1), ∀ (k1_h126 : k1_cond126 v2402 v2404 k1_t136 = 1#1), ∀ a, (k1_off1887 i v2402 v2404 k1_t136) a + S72x256.size a ≤ S100000x512.size a) ∧
  (∀ k1_t136 : Fin (k1_t136_loop v2402 v2404).trips, (k1_t139_loop v2402 v2404 k1_t136).OK) ∧
  (∀ (k1_t136 : Fin (k1_t136_loop v2402 v2404).trips) (k1_t139 : Fin (k1_t139_loop v2402 v2404 k1_t136).trips), ∀ a, (k1_off1888 v2402 v2404 k1_t136 k1_t139) a + S1x16.size a ≤ S72x256.size a) ∧
  (∀ (k1_t136 : Fin (k1_t136_loop v2402 v2404).trips) (k1_t139 : Fin (k1_t139_loop v2402 v2404 k1_t136).trips), ∀ a, (k1_off1889 v2402 v2404 k1_t136 k1_t139) a + S1x16.size a ≤ S72x256.size a) ∧
  (∀ (k1_t136 : Fin (k1_t136_loop v2402 v2404).trips) (k1_t139 : Fin (k1_t139_loop v2402 v2404 k1_t136).trips), ∀ a, (k1_off1890 v2402 v2404 k1_t136 k1_t139) a + S1x16.size a ≤ S72x256.size a) ∧
  (∀ (k1_t136 : Fin (k1_t136_loop v2402 v2404).trips) (k1_t139 : Fin (k1_t139_loop v2402 v2404 k1_t136).trips), ∀ a, (k1_off1891 v2402 v2404 k1_t136 k1_t139) a + S1x16.size a ≤ S72x256.size a) ∧
  (∀ (k1_t136 : Fin (k1_t136_loop v2402 v2404).trips) (k1_t139 : Fin (k1_t139_loop v2402 v2404 k1_t136).trips), ∀ a, (k1_off1892 v2402 v2404 k1_t136 k1_t139) a + S1x16.size a ≤ S72x256.size a) ∧
  (∀ (k1_t136 : Fin (k1_t136_loop v2402 v2404).trips) (k1_t139 : Fin (k1_t139_loop v2402 v2404 k1_t136).trips), ∀ a, (k1_off1893 v2402 v2404 k1_t136 k1_t139) a + S1x16.size a ≤ S72x256.size a) ∧
  (∀ (k1_t136 : Fin (k1_t136_loop v2402 v2404).trips) (k1_t139 : Fin (k1_t139_loop v2402 v2404 k1_t136).trips), ∀ a, (k1_off1894 v2402 v2404 k1_t136 k1_t139) a + S1x16.size a ≤ S72x256.size a) ∧
  (∀ (k1_t136 : Fin (k1_t136_loop v2402 v2404).trips) (k1_t139 : Fin (k1_t139_loop v2402 v2404 k1_t136).trips), ∀ a, (k1_off1895 v2402 v2404 k1_t136 k1_t139) a + S1x16.size a ≤ S72x256.size a) ∧
  (∀ (k1_t136 : Fin (k1_t136_loop v2402 v2404).trips) (k1_t139 : Fin (k1_t139_loop v2402 v2404 k1_t136).trips), ∀ a, (k1_off1896 v2402 v2404 k1_t136 k1_t139) a + S1x16.size a ≤ S72x256.size a) ∧
  (∀ (k1_t136 : Fin (k1_t136_loop v2402 v2404).trips) (k1_t139 : Fin (k1_t139_loop v2402 v2404 k1_t136).trips), ∀ a, (k1_off1897 v2402 v2404 k1_t136 k1_t139) a + S1x16.size a ≤ S72x256.size a) ∧
  (∀ (k1_t136 : Fin (k1_t136_loop v2402 v2404).trips) (k1_t139 : Fin (k1_t139_loop v2402 v2404 k1_t136).trips), ∀ a, (k1_off1898 v2402 v2404 k1_t136 k1_t139) a + S1x16.size a ≤ S72x256.size a) ∧
  (∀ (k1_t136 : Fin (k1_t136_loop v2402 v2404).trips) (k1_t139 : Fin (k1_t139_loop v2402 v2404 k1_t136).trips), ∀ a, (k1_off1899 v2402 v2404 k1_t136 k1_t139) a + S1x16.size a ≤ S72x256.size a) ∧
  (∀ (k1_t136 : Fin (k1_t136_loop v2402 v2404).trips) (k1_t139 : Fin (k1_t139_loop v2402 v2404 k1_t136).trips), ∀ a, (k1_off1900 v2402 v2404 k1_t136 k1_t139) a + S1x16.size a ≤ S72x256.size a) ∧
  (∀ (k1_t136 : Fin (k1_t136_loop v2402 v2404).trips) (k1_t139 : Fin (k1_t139_loop v2402 v2404 k1_t136).trips), ∀ a, (k1_off1901 v2402 v2404 k1_t136 k1_t139) a + S1x16.size a ≤ S72x256.size a)
def k1_chk14_4 (i : grid1.Coords) (v2402 : BitVec 32) (v2404 : BitVec 32) : Prop :=
  (∀ (k1_t136 : Fin (k1_t136_loop v2402 v2404).trips) (k1_t139 : Fin (k1_t139_loop v2402 v2404 k1_t136).trips), ∀ a, (k1_off1902 v2402 v2404 k1_t136 k1_t139) a + S1x16.size a ≤ S72x256.size a) ∧
  (∀ (k1_t136 : Fin (k1_t136_loop v2402 v2404).trips) (k1_t139 : Fin (k1_t139_loop v2402 v2404 k1_t136).trips), ∀ a, (k1_off1903 v2402 v2404 k1_t136 k1_t139) a + S1x16.size a ≤ S72x256.size a) ∧
  (∀ k1_t136 : Fin (k1_t136_loop v2402 v2404).trips, (k1_t140_loop v2402 v2404 k1_t136).OK) ∧
  (∀ (k1_t136 : Fin (k1_t136_loop v2402 v2404).trips) (k1_t140 : Fin (k1_t140_loop v2402 v2404 k1_t136).trips), ∀ a, (k1_off1904 v2402 v2404 k1_t136 k1_t140) a + S1x16.size a ≤ S72x256.size a) ∧
  (∀ (k1_t136 : Fin (k1_t136_loop v2402 v2404).trips) (k1_t140 : Fin (k1_t140_loop v2402 v2404 k1_t136).trips), ∀ a, (k1_off1905 v2402 v2404 k1_t136 k1_t140) a + S1x16.size a ≤ S72x256.size a) ∧
  (∀ (k1_t136 : Fin (k1_t136_loop v2402 v2404).trips) (k1_t140 : Fin (k1_t140_loop v2402 v2404 k1_t136).trips), ∀ a, (k1_off1906 v2402 v2404 k1_t136 k1_t140) a + S1x16.size a ≤ S72x256.size a) ∧
  (∀ (k1_t136 : Fin (k1_t136_loop v2402 v2404).trips) (k1_t140 : Fin (k1_t140_loop v2402 v2404 k1_t136).trips), ∀ a, (k1_off1907 v2402 v2404 k1_t136 k1_t140) a + S1x16.size a ≤ S72x256.size a) ∧
  (∀ (k1_t136 : Fin (k1_t136_loop v2402 v2404).trips) (k1_t140 : Fin (k1_t140_loop v2402 v2404 k1_t136).trips), ∀ a, (k1_off1908 v2402 v2404 k1_t136 k1_t140) a + S1x16.size a ≤ S72x256.size a) ∧
  (∀ (k1_t136 : Fin (k1_t136_loop v2402 v2404).trips) (k1_t140 : Fin (k1_t140_loop v2402 v2404 k1_t136).trips), ∀ a, (k1_off1909 v2402 v2404 k1_t136 k1_t140) a + S1x16.size a ≤ S72x256.size a) ∧
  (∀ (k1_t136 : Fin (k1_t136_loop v2402 v2404).trips) (k1_t140 : Fin (k1_t140_loop v2402 v2404 k1_t136).trips), ∀ a, (k1_off1910 v2402 v2404 k1_t136 k1_t140) a + S1x16.size a ≤ S72x256.size a) ∧
  (∀ (k1_t136 : Fin (k1_t136_loop v2402 v2404).trips) (k1_t140 : Fin (k1_t140_loop v2402 v2404 k1_t136).trips), ∀ a, (k1_off1911 v2402 v2404 k1_t136 k1_t140) a + S1x16.size a ≤ S72x256.size a) ∧
  (∀ (k1_t136 : Fin (k1_t136_loop v2402 v2404).trips) (k1_t140 : Fin (k1_t140_loop v2402 v2404 k1_t136).trips), ∀ a, (k1_off1912 v2402 v2404 k1_t136 k1_t140) a + S1x16.size a ≤ S72x256.size a) ∧
  (∀ (k1_t136 : Fin (k1_t136_loop v2402 v2404).trips) (k1_t140 : Fin (k1_t140_loop v2402 v2404 k1_t136).trips), ∀ a, (k1_off1913 v2402 v2404 k1_t136 k1_t140) a + S1x16.size a ≤ S72x256.size a) ∧
  (∀ (k1_t136 : Fin (k1_t136_loop v2402 v2404).trips) (k1_t140 : Fin (k1_t140_loop v2402 v2404 k1_t136).trips), ∀ a, (k1_off1914 v2402 v2404 k1_t136 k1_t140) a + S1x16.size a ≤ S72x256.size a) ∧
  (∀ (k1_t136 : Fin (k1_t136_loop v2402 v2404).trips) (k1_t140 : Fin (k1_t140_loop v2402 v2404 k1_t136).trips), ∀ a, (k1_off1915 v2402 v2404 k1_t136 k1_t140) a + S1x16.size a ≤ S72x256.size a) ∧
  (∀ (k1_t136 : Fin (k1_t136_loop v2402 v2404).trips) (k1_t140 : Fin (k1_t140_loop v2402 v2404 k1_t136).trips), ∀ a, (k1_off1916 v2402 v2404 k1_t136 k1_t140) a + S1x16.size a ≤ S72x256.size a) ∧
  (∀ (k1_t136 : Fin (k1_t136_loop v2402 v2404).trips) (k1_t140 : Fin (k1_t140_loop v2402 v2404 k1_t136).trips), ∀ a, (k1_off1917 v2402 v2404 k1_t136 k1_t140) a + S1x16.size a ≤ S72x256.size a) ∧
  (∀ (k1_t136 : Fin (k1_t136_loop v2402 v2404).trips) (k1_t140 : Fin (k1_t140_loop v2402 v2404 k1_t136).trips), ∀ a, (k1_off1918 v2402 v2404 k1_t136 k1_t140) a + S1x16.size a ≤ S72x256.size a) ∧
  (∀ (k1_t136 : Fin (k1_t136_loop v2402 v2404).trips) (k1_t140 : Fin (k1_t140_loop v2402 v2404 k1_t136).trips), ∀ a, (k1_off1919 v2402 v2404 k1_t136 k1_t140) a + S1x16.size a ≤ S72x256.size a)
def k1_chk14 (i : grid1.Coords) (v2402 : BitVec 32) (v2404 : BitVec 32) : Prop :=
  k1_chk14_0 i v2402 v2404 ∧
  k1_chk14_1 i v2402 v2404 ∧
  k1_chk14_2 i v2402 v2404 ∧
  k1_chk14_3 i v2402 v2404 ∧
  k1_chk14_4 i v2402 v2404
theorem k1_off1783_inb : ∀ (i : grid1.Coords) (v2402 : BitVec 32) (v2404 : BitVec 32) (k1_hw14 : k1_chk14 i v2402 v2404), ∀ (k1_h118 : k1_cond118 v2402 v2404 = 1#1), ∀ a, (k1_off1783 i v2402) a + S72x256.size a ≤ S100000x512.size a := fun i v2402 v2404 k1_hw14 k1_h118 => k1_hw14.1.1 k1_h118
theorem k1_t131_ok : ∀ (i : grid1.Coords) (v2402 : BitVec 32) (v2404 : BitVec 32) (k1_hw14 : k1_chk14 i v2402 v2404), (k1_t131_loop v2402 v2404).OK := fun i v2402 v2404 k1_hw14 => k1_hw14.1.2.1
theorem k1_off1784_inb : ∀ (i : grid1.Coords) (v2402 : BitVec 32) (v2404 : BitVec 32) (k1_hw14 : k1_chk14 i v2402 v2404) (k1_t131 : Fin (k1_t131_loop v2402 v2404).trips), ∀ (k1_h119 : k1_cond119 v2402 v2404 k1_t131 = 1#1), ∀ a, (k1_off1784 i v2402 v2404 k1_t131) a + S72x256.size a ≤ S100000x512.size a := fun i v2402 v2404 k1_hw14 k1_t131 k1_h119 => k1_hw14.1.2.2.1 k1_t131 k1_h119
theorem k1_off1785_inb : ∀ (i : grid1.Coords) (v2402 : BitVec 32) (v2404 : BitVec 32) (k1_hw14 : k1_chk14 i v2402 v2404) (k1_t131 : Fin (k1_t131_loop v2402 v2404).trips), ∀ (k1_h119 : k1_cond119 v2402 v2404 k1_t131 = 1#1), ∀ (k1_h120 : k1_cond120 v2402 v2404 k1_t131 = 1#1), ∀ a, (k1_off1785 i v2402 v2404 k1_t131) a + S72x256.size a ≤ S100000x512.size a := fun i v2402 v2404 k1_hw14 k1_t131 k1_h119 k1_h120 => k1_hw14.1.2.2.2.1 k1_t131 k1_h119 k1_h120
theorem k1_t132_ok : ∀ (i : grid1.Coords) (v2402 : BitVec 32) (v2404 : BitVec 32) (k1_hw14 : k1_chk14 i v2402 v2404) (k1_t131 : Fin (k1_t131_loop v2402 v2404).trips), (k1_t132_loop v2402 v2404 k1_t131).OK := fun i v2402 v2404 k1_hw14 k1_t131 => k1_hw14.1.2.2.2.2.1 k1_t131
theorem k1_off1786_inb : ∀ (i : grid1.Coords) (v2402 : BitVec 32) (v2404 : BitVec 32) (k1_hw14 : k1_chk14 i v2402 v2404) (k1_t131 : Fin (k1_t131_loop v2402 v2404).trips) (k1_t132 : Fin (k1_t132_loop v2402 v2404 k1_t131).trips), ∀ a, (k1_off1786 v2402 v2404 k1_t131 k1_t132) a + S1x16.size a ≤ S72x256.size a := fun i v2402 v2404 k1_hw14 k1_t131 k1_t132 => k1_hw14.1.2.2.2.2.2.1 k1_t131 k1_t132
theorem k1_off1787_inb : ∀ (i : grid1.Coords) (v2402 : BitVec 32) (v2404 : BitVec 32) (k1_hw14 : k1_chk14 i v2402 v2404) (k1_t131 : Fin (k1_t131_loop v2402 v2404).trips) (k1_t132 : Fin (k1_t132_loop v2402 v2404 k1_t131).trips), ∀ a, (k1_off1787 v2402 v2404 k1_t131 k1_t132) a + S1x16.size a ≤ S72x256.size a := fun i v2402 v2404 k1_hw14 k1_t131 k1_t132 => k1_hw14.1.2.2.2.2.2.2.1 k1_t131 k1_t132
theorem k1_off1788_inb : ∀ (i : grid1.Coords) (v2402 : BitVec 32) (v2404 : BitVec 32) (k1_hw14 : k1_chk14 i v2402 v2404) (k1_t131 : Fin (k1_t131_loop v2402 v2404).trips) (k1_t132 : Fin (k1_t132_loop v2402 v2404 k1_t131).trips), ∀ a, (k1_off1788 v2402 v2404 k1_t131 k1_t132) a + S1x16.size a ≤ S72x256.size a := fun i v2402 v2404 k1_hw14 k1_t131 k1_t132 => k1_hw14.1.2.2.2.2.2.2.2.1 k1_t131 k1_t132
theorem k1_off1789_inb : ∀ (i : grid1.Coords) (v2402 : BitVec 32) (v2404 : BitVec 32) (k1_hw14 : k1_chk14 i v2402 v2404) (k1_t131 : Fin (k1_t131_loop v2402 v2404).trips) (k1_t132 : Fin (k1_t132_loop v2402 v2404 k1_t131).trips), ∀ a, (k1_off1789 v2402 v2404 k1_t131 k1_t132) a + S1x16.size a ≤ S72x256.size a := fun i v2402 v2404 k1_hw14 k1_t131 k1_t132 => k1_hw14.1.2.2.2.2.2.2.2.2.1 k1_t131 k1_t132
theorem k1_off1790_inb : ∀ (i : grid1.Coords) (v2402 : BitVec 32) (v2404 : BitVec 32) (k1_hw14 : k1_chk14 i v2402 v2404) (k1_t131 : Fin (k1_t131_loop v2402 v2404).trips) (k1_t132 : Fin (k1_t132_loop v2402 v2404 k1_t131).trips), ∀ a, (k1_off1790 v2402 v2404 k1_t131 k1_t132) a + S1x16.size a ≤ S72x256.size a := fun i v2402 v2404 k1_hw14 k1_t131 k1_t132 => k1_hw14.1.2.2.2.2.2.2.2.2.2.1 k1_t131 k1_t132
theorem k1_off1791_inb : ∀ (i : grid1.Coords) (v2402 : BitVec 32) (v2404 : BitVec 32) (k1_hw14 : k1_chk14 i v2402 v2404) (k1_t131 : Fin (k1_t131_loop v2402 v2404).trips) (k1_t132 : Fin (k1_t132_loop v2402 v2404 k1_t131).trips), ∀ a, (k1_off1791 v2402 v2404 k1_t131 k1_t132) a + S1x16.size a ≤ S72x256.size a := fun i v2402 v2404 k1_hw14 k1_t131 k1_t132 => k1_hw14.1.2.2.2.2.2.2.2.2.2.2.1 k1_t131 k1_t132
theorem k1_off1792_inb : ∀ (i : grid1.Coords) (v2402 : BitVec 32) (v2404 : BitVec 32) (k1_hw14 : k1_chk14 i v2402 v2404) (k1_t131 : Fin (k1_t131_loop v2402 v2404).trips) (k1_t132 : Fin (k1_t132_loop v2402 v2404 k1_t131).trips), ∀ a, (k1_off1792 v2402 v2404 k1_t131 k1_t132) a + S1x16.size a ≤ S72x256.size a := fun i v2402 v2404 k1_hw14 k1_t131 k1_t132 => k1_hw14.1.2.2.2.2.2.2.2.2.2.2.2.1 k1_t131 k1_t132
theorem k1_off1793_inb : ∀ (i : grid1.Coords) (v2402 : BitVec 32) (v2404 : BitVec 32) (k1_hw14 : k1_chk14 i v2402 v2404) (k1_t131 : Fin (k1_t131_loop v2402 v2404).trips) (k1_t132 : Fin (k1_t132_loop v2402 v2404 k1_t131).trips), ∀ a, (k1_off1793 v2402 v2404 k1_t131 k1_t132) a + S1x16.size a ≤ S72x256.size a := fun i v2402 v2404 k1_hw14 k1_t131 k1_t132 => k1_hw14.1.2.2.2.2.2.2.2.2.2.2.2.2.1 k1_t131 k1_t132
theorem k1_off1794_inb : ∀ (i : grid1.Coords) (v2402 : BitVec 32) (v2404 : BitVec 32) (k1_hw14 : k1_chk14 i v2402 v2404) (k1_t131 : Fin (k1_t131_loop v2402 v2404).trips) (k1_t132 : Fin (k1_t132_loop v2402 v2404 k1_t131).trips), ∀ a, (k1_off1794 v2402 v2404 k1_t131 k1_t132) a + S1x16.size a ≤ S72x256.size a := fun i v2402 v2404 k1_hw14 k1_t131 k1_t132 => k1_hw14.1.2.2.2.2.2.2.2.2.2.2.2.2.2.1 k1_t131 k1_t132
theorem k1_off1795_inb : ∀ (i : grid1.Coords) (v2402 : BitVec 32) (v2404 : BitVec 32) (k1_hw14 : k1_chk14 i v2402 v2404) (k1_t131 : Fin (k1_t131_loop v2402 v2404).trips) (k1_t132 : Fin (k1_t132_loop v2402 v2404 k1_t131).trips), ∀ a, (k1_off1795 v2402 v2404 k1_t131 k1_t132) a + S1x16.size a ≤ S72x256.size a := fun i v2402 v2404 k1_hw14 k1_t131 k1_t132 => k1_hw14.1.2.2.2.2.2.2.2.2.2.2.2.2.2.2.1 k1_t131 k1_t132
theorem k1_off1796_inb : ∀ (i : grid1.Coords) (v2402 : BitVec 32) (v2404 : BitVec 32) (k1_hw14 : k1_chk14 i v2402 v2404) (k1_t131 : Fin (k1_t131_loop v2402 v2404).trips) (k1_t132 : Fin (k1_t132_loop v2402 v2404 k1_t131).trips), ∀ a, (k1_off1796 v2402 v2404 k1_t131 k1_t132) a + S1x16.size a ≤ S72x256.size a := fun i v2402 v2404 k1_hw14 k1_t131 k1_t132 => k1_hw14.1.2.2.2.2.2.2.2.2.2.2.2.2.2.2.2.1 k1_t131 k1_t132
theorem k1_off1797_inb : ∀ (i : grid1.Coords) (v2402 : BitVec 32) (v2404 : BitVec 32) (k1_hw14 : k1_chk14 i v2402 v2404) (k1_t131 : Fin (k1_t131_loop v2402 v2404).trips) (k1_t132 : Fin (k1_t132_loop v2402 v2404 k1_t131).trips), ∀ a, (k1_off1797 v2402 v2404 k1_t131 k1_t132) a + S1x16.size a ≤ S72x256.size a := fun i v2402 v2404 k1_hw14 k1_t131 k1_t132 => k1_hw14.1.2.2.2.2.2.2.2.2.2.2.2.2.2.2.2.2.1 k1_t131 k1_t132
theorem k1_off1798_inb : ∀ (i : grid1.Coords) (v2402 : BitVec 32) (v2404 : BitVec 32) (k1_hw14 : k1_chk14 i v2402 v2404) (k1_t131 : Fin (k1_t131_loop v2402 v2404).trips) (k1_t132 : Fin (k1_t132_loop v2402 v2404 k1_t131).trips), ∀ a, (k1_off1798 v2402 v2404 k1_t131 k1_t132) a + S1x16.size a ≤ S72x256.size a := fun i v2402 v2404 k1_hw14 k1_t131 k1_t132 => k1_hw14.1.2.2.2.2.2.2.2.2.2.2.2.2.2.2.2.2.2.1 k1_t131 k1_t132
theorem k1_off1799_inb : ∀ (i : grid1.Coords) (v2402 : BitVec 32) (v2404 : BitVec 32) (k1_hw14 : k1_chk14 i v2402 v2404) (k1_t131 : Fin (k1_t131_loop v2402 v2404).trips) (k1_t132 : Fin (k1_t132_loop v2402 v2404 k1_t131).trips), ∀ a, (k1_off1799 v2402 v2404 k1_t131 k1_t132) a + S1x16.size a ≤ S72x256.size a := fun i v2402 v2404 k1_hw14 k1_t131 k1_t132 => k1_hw14.1.2.2.2.2.2.2.2.2.2.2.2.2.2.2.2.2.2.2.1 k1_t131 k1_t132
theorem k1_off1800_inb : ∀ (i : grid1.Coords) (v2402 : BitVec 32) (v2404 : BitVec 32) (k1_hw14 : k1_chk14 i v2402 v2404) (k1_t131 : Fin (k1_t131_loop v2402 v2404).trips) (k1_t132 : Fin (k1_t132_loop v2402 v2404 k1_t131).trips), ∀ a, (k1_off1800 v2402 v2404 k1_t131 k1_t132) a + S1x16.size a ≤ S72x256.size a := fun i v2402 v2404 k1_hw14 k1_t131 k1_t132 => k1_hw14.1.2.2.2.2.2.2.2.2.2.2.2.2.2.2.2.2.2.2.2.1 k1_t131 k1_t132
theorem k1_off1801_inb : ∀ (i : grid1.Coords) (v2402 : BitVec 32) (v2404 : BitVec 32) (k1_hw14 : k1_chk14 i v2402 v2404) (k1_t131 : Fin (k1_t131_loop v2402 v2404).trips) (k1_t132 : Fin (k1_t132_loop v2402 v2404 k1_t131).trips), ∀ a, (k1_off1801 v2402 v2404 k1_t131 k1_t132) a + S1x16.size a ≤ S72x256.size a := fun i v2402 v2404 k1_hw14 k1_t131 k1_t132 => k1_hw14.1.2.2.2.2.2.2.2.2.2.2.2.2.2.2.2.2.2.2.2.2.1 k1_t131 k1_t132
theorem k1_t133_ok : ∀ (i : grid1.Coords) (v2402 : BitVec 32) (v2404 : BitVec 32) (k1_hw14 : k1_chk14 i v2402 v2404) (k1_t131 : Fin (k1_t131_loop v2402 v2404).trips), (k1_t133_loop v2402 v2404 k1_t131).OK := fun i v2402 v2404 k1_hw14 k1_t131 => k1_hw14.1.2.2.2.2.2.2.2.2.2.2.2.2.2.2.2.2.2.2.2.2.2.1 k1_t131
theorem k1_off1802_inb : ∀ (i : grid1.Coords) (v2402 : BitVec 32) (v2404 : BitVec 32) (k1_hw14 : k1_chk14 i v2402 v2404) (k1_t131 : Fin (k1_t131_loop v2402 v2404).trips) (k1_t133 : Fin (k1_t133_loop v2402 v2404 k1_t131).trips), ∀ a, (k1_off1802 v2402 v2404 k1_t131 k1_t133) a + S1x16.size a ≤ S72x256.size a := fun i v2402 v2404 k1_hw14 k1_t131 k1_t133 => k1_hw14.1.2.2.2.2.2.2.2.2.2.2.2.2.2.2.2.2.2.2.2.2.2.2.1 k1_t131 k1_t133
theorem k1_off1803_inb : ∀ (i : grid1.Coords) (v2402 : BitVec 32) (v2404 : BitVec 32) (k1_hw14 : k1_chk14 i v2402 v2404) (k1_t131 : Fin (k1_t131_loop v2402 v2404).trips) (k1_t133 : Fin (k1_t133_loop v2402 v2404 k1_t131).trips), ∀ a, (k1_off1803 v2402 v2404 k1_t131 k1_t133) a + S1x16.size a ≤ S72x256.size a := fun i v2402 v2404 k1_hw14 k1_t131 k1_t133 => k1_hw14.1.2.2.2.2.2.2.2.2.2.2.2.2.2.2.2.2.2.2.2.2.2.2.2.1 k1_t131 k1_t133
theorem k1_off1804_inb : ∀ (i : grid1.Coords) (v2402 : BitVec 32) (v2404 : BitVec 32) (k1_hw14 : k1_chk14 i v2402 v2404) (k1_t131 : Fin (k1_t131_loop v2402 v2404).trips) (k1_t133 : Fin (k1_t133_loop v2402 v2404 k1_t131).trips), ∀ a, (k1_off1804 v2402 v2404 k1_t131 k1_t133) a + S1x16.size a ≤ S72x256.size a := fun i v2402 v2404 k1_hw14 k1_t131 k1_t133 => k1_hw14.1.2.2.2.2.2.2.2.2.2.2.2.2.2.2.2.2.2.2.2.2.2.2.2.2.1 k1_t131 k1_t133
theorem k1_off1805_inb : ∀ (i : grid1.Coords) (v2402 : BitVec 32) (v2404 : BitVec 32) (k1_hw14 : k1_chk14 i v2402 v2404) (k1_t131 : Fin (k1_t131_loop v2402 v2404).trips) (k1_t133 : Fin (k1_t133_loop v2402 v2404 k1_t131).trips), ∀ a, (k1_off1805 v2402 v2404 k1_t131 k1_t133) a + S1x16.size a ≤ S72x256.size a := fun i v2402 v2404 k1_hw14 k1_t131 k1_t133 => k1_hw14.1.2.2.2.2.2.2.2.2.2.2.2.2.2.2.2.2.2.2.2.2.2.2.2.2.2.1 k1_t131 k1_t133
theorem k1_off1806_inb : ∀ (i : grid1.Coords) (v2402 : BitVec 32) (v2404 : BitVec 32) (k1_hw14 : k1_chk14 i v2402 v2404) (k1_t131 : Fin (k1_t131_loop v2402 v2404).trips) (k1_t133 : Fin (k1_t133_loop v2402 v2404 k1_t131).trips), ∀ a, (k1_off1806 v2402 v2404 k1_t131 k1_t133) a + S1x16.size a ≤ S72x256.size a := fun i v2402 v2404 k1_hw14 k1_t131 k1_t133 => k1_hw14.1.2.2.2.2.2.2.2.2.2.2.2.2.2.2.2.2.2.2.2.2.2.2.2.2.2.2.1 k1_t131 k1_t133
theorem k1_off1807_inb : ∀ (i : grid1.Coords) (v2402 : BitVec 32) (v2404 : BitVec 32) (k1_hw14 : k1_chk14 i v2402 v2404) (k1_t131 : Fin (k1_t131_loop v2402 v2404).trips) (k1_t133 : Fin (k1_t133_loop v2402 v2404 k1_t131).trips), ∀ a, (k1_off1807 v2402 v2404 k1_t131 k1_t133) a + S1x16.size a ≤ S72x256.size a := fun i v2402 v2404 k1_hw14 k1_t131 k1_t133 => k1_hw14.1.2.2.2.2.2.2.2.2.2.2.2.2.2.2.2.2.2.2.2.2.2.2.2.2.2.2.2.1 k1_t131 k1_t133
theorem k1_off1808_inb : ∀ (i : grid1.Coords) (v2402 : BitVec 32) (v2404 : BitVec 32) (k1_hw14 : k1_chk14 i v2402 v2404) (k1_t131 : Fin (k1_t131_loop v2402 v2404).trips) (k1_t133 : Fin (k1_t133_loop v2402 v2404 k1_t131).trips), ∀ a, (k1_off1808 v2402 v2404 k1_t131 k1_t133) a + S1x16.size a ≤ S72x256.size a := fun i v2402 v2404 k1_hw14 k1_t131 k1_t133 => k1_hw14.1.2.2.2.2.2.2.2.2.2.2.2.2.2.2.2.2.2.2.2.2.2.2.2.2.2.2.2.2.1 k1_t131 k1_t133
theorem k1_off1809_inb : ∀ (i : grid1.Coords) (v2402 : BitVec 32) (v2404 : BitVec 32) (k1_hw14 : k1_chk14 i v2402 v2404) (k1_t131 : Fin (k1_t131_loop v2402 v2404).trips) (k1_t133 : Fin (k1_t133_loop v2402 v2404 k1_t131).trips), ∀ a, (k1_off1809 v2402 v2404 k1_t131 k1_t133) a + S1x16.size a ≤ S72x256.size a := fun i v2402 v2404 k1_hw14 k1_t131 k1_t133 => k1_hw14.1.2.2.2.2.2.2.2.2.2.2.2.2.2.2.2.2.2.2.2.2.2.2.2.2.2.2.2.2.2.1 k1_t131 k1_t133
theorem k1_off1810_inb : ∀ (i : grid1.Coords) (v2402 : BitVec 32) (v2404 : BitVec 32) (k1_hw14 : k1_chk14 i v2402 v2404) (k1_t131 : Fin (k1_t131_loop v2402 v2404).trips) (k1_t133 : Fin (k1_t133_loop v2402 v2404 k1_t131).trips), ∀ a, (k1_off1810 v2402 v2404 k1_t131 k1_t133) a + S1x16.size a ≤ S72x256.size a := fun i v2402 v2404 k1_hw14 k1_t131 k1_t133 => k1_hw14.1.2.2.2.2.2.2.2.2.2.2.2.2.2.2.2.2.2.2.2.2.2.2.2.2.2.2.2.2.2.2.1 k1_t131 k1_t133
theorem k1_off1811_inb : ∀ (i : grid1.Coords) (v2402 : BitVec 32) (v2404 : BitVec 32) (k1_hw14 : k1_chk14 i v2402 v2404) (k1_t131 : Fin (k1_t131_loop v2402 v2404).trips) (k1_t133 : Fin (k1_t133_loop v2402 v2404 k1_t131).trips), ∀ a, (k1_off1811 v2402 v2404 k1_t131 k1_t133) a + S1x16.size a ≤ S72x256.size a := fun i v2402 v2404 k1_hw14 k1_t131 k1_t133 => k1_hw14.1.2.2.2.2.2.2.2.2.2.2.2.2.2.2.2.2.2.2.2.2.2.2.2.2.2.2.2.2.2.2.2 k1_t131 k1_t133
theorem k1_off1812_inb : ∀ (i : grid1.Coords) (v2402 : BitVec 32) (v2404 : BitVec 32) (k1_hw14 : k1_chk14 i v2402 v2404) (k1_t131 : Fin (k1_t131_loop v2402 v2404).trips) (k1_t133 : Fin (k1_t133_loop v2402 v2404 k1_t131).trips), ∀ a, (k1_off1812 v2402 v2404 k1_t131 k1_t133) a + S1x16.size a ≤ S72x256.size a := fun i v2402 v2404 k1_hw14 k1_t131 k1_t133 => k1_hw14.2.1.1 k1_t131 k1_t133
theorem k1_off1813_inb : ∀ (i : grid1.Coords) (v2402 : BitVec 32) (v2404 : BitVec 32) (k1_hw14 : k1_chk14 i v2402 v2404) (k1_t131 : Fin (k1_t131_loop v2402 v2404).trips) (k1_t133 : Fin (k1_t133_loop v2402 v2404 k1_t131).trips), ∀ a, (k1_off1813 v2402 v2404 k1_t131 k1_t133) a + S1x16.size a ≤ S72x256.size a := fun i v2402 v2404 k1_hw14 k1_t131 k1_t133 => k1_hw14.2.1.2.1 k1_t131 k1_t133
theorem k1_off1814_inb : ∀ (i : grid1.Coords) (v2402 : BitVec 32) (v2404 : BitVec 32) (k1_hw14 : k1_chk14 i v2402 v2404) (k1_t131 : Fin (k1_t131_loop v2402 v2404).trips) (k1_t133 : Fin (k1_t133_loop v2402 v2404 k1_t131).trips), ∀ a, (k1_off1814 v2402 v2404 k1_t131 k1_t133) a + S1x16.size a ≤ S72x256.size a := fun i v2402 v2404 k1_hw14 k1_t131 k1_t133 => k1_hw14.2.1.2.2.1 k1_t131 k1_t133
theorem k1_off1815_inb : ∀ (i : grid1.Coords) (v2402 : BitVec 32) (v2404 : BitVec 32) (k1_hw14 : k1_chk14 i v2402 v2404) (k1_t131 : Fin (k1_t131_loop v2402 v2404).trips) (k1_t133 : Fin (k1_t133_loop v2402 v2404 k1_t131).trips), ∀ a, (k1_off1815 v2402 v2404 k1_t131 k1_t133) a + S1x16.size a ≤ S72x256.size a := fun i v2402 v2404 k1_hw14 k1_t131 k1_t133 => k1_hw14.2.1.2.2.2.1 k1_t131 k1_t133
theorem k1_off1816_inb : ∀ (i : grid1.Coords) (v2402 : BitVec 32) (v2404 : BitVec 32) (k1_hw14 : k1_chk14 i v2402 v2404) (k1_t131 : Fin (k1_t131_loop v2402 v2404).trips) (k1_t133 : Fin (k1_t133_loop v2402 v2404 k1_t131).trips), ∀ a, (k1_off1816 v2402 v2404 k1_t131 k1_t133) a + S1x16.size a ≤ S72x256.size a := fun i v2402 v2404 k1_hw14 k1_t131 k1_t133 => k1_hw14.2.1.2.2.2.2.1 k1_t131 k1_t133
theorem k1_off1817_inb : ∀ (i : grid1.Coords) (v2402 : BitVec 32) (v2404 : BitVec 32) (k1_hw14 : k1_chk14 i v2402 v2404) (k1_t131 : Fin (k1_t131_loop v2402 v2404).trips) (k1_t133 : Fin (k1_t133_loop v2402 v2404 k1_t131).trips), ∀ a, (k1_off1817 v2402 v2404 k1_t131 k1_t133) a + S1x16.size a ≤ S72x256.size a := fun i v2402 v2404 k1_hw14 k1_t131 k1_t133 => k1_hw14.2.1.2.2.2.2.2.1 k1_t131 k1_t133
theorem k1_off1818_inb : ∀ (i : grid1.Coords) (v2402 : BitVec 32) (v2404 : BitVec 32) (k1_hw14 : k1_chk14 i v2402 v2404) (k1_t131 : Fin (k1_t131_loop v2402 v2404).trips), ∀ (k1_h121 : k1_cond121 v2402 v2404 k1_t131 = 1#1), ∀ a, (k1_off1818 i v2402 v2404 k1_t131) a + S72x256.size a ≤ S100000x512.size a := fun i v2402 v2404 k1_hw14 k1_t131 k1_h121 => k1_hw14.2.1.2.2.2.2.2.2.1 k1_t131 k1_h121
theorem k1_off1819_inb : ∀ (i : grid1.Coords) (v2402 : BitVec 32) (v2404 : BitVec 32) (k1_hw14 : k1_chk14 i v2402 v2404) (k1_t131 : Fin (k1_t131_loop v2402 v2404).trips), ∀ (k1_h121 : k1_cond121 v2402 v2404 k1_t131 = 1#1), ∀ (k1_h122 : k1_cond122 v2402 v2404 k1_t131 = 1#1), ∀ a, (k1_off1819 i v2402 v2404 k1_t131) a + S72x256.size a ≤ S100000x512.size a := fun i v2402 v2404 k1_hw14 k1_t131 k1_h121 k1_h122 => k1_hw14.2.1.2.2.2.2.2.2.2.1 k1_t131 k1_h121 k1_h122
theorem k1_t134_ok : ∀ (i : grid1.Coords) (v2402 : BitVec 32) (v2404 : BitVec 32) (k1_hw14 : k1_chk14 i v2402 v2404) (k1_t131 : Fin (k1_t131_loop v2402 v2404).trips), (k1_t134_loop v2402 v2404 k1_t131).OK := fun i v2402 v2404 k1_hw14 k1_t131 => k1_hw14.2.1.2.2.2.2.2.2.2.2.1 k1_t131
theorem k1_off1820_inb : ∀ (i : grid1.Coords) (v2402 : BitVec 32) (v2404 : BitVec 32) (k1_hw14 : k1_chk14 i v2402 v2404) (k1_t131 : Fin (k1_t131_loop v2402 v2404).trips) (k1_t134 : Fin (k1_t134_loop v2402 v2404 k1_t131).trips), ∀ a, (k1_off1820 v2402 v2404 k1_t131 k1_t134) a + S1x16.size a ≤ S72x256.size a := fun i v2402 v2404 k1_hw14 k1_t131 k1_t134 => k1_hw14.2.1.2.2.2.2.2.2.2.2.2.1 k1_t131 k1_t134
theorem k1_off1821_inb : ∀ (i : grid1.Coords) (v2402 : BitVec 32) (v2404 : BitVec 32) (k1_hw14 : k1_chk14 i v2402 v2404) (k1_t131 : Fin (k1_t131_loop v2402 v2404).trips) (k1_t134 : Fin (k1_t134_loop v2402 v2404 k1_t131).trips), ∀ a, (k1_off1821 v2402 v2404 k1_t131 k1_t134) a + S1x16.size a ≤ S72x256.size a := fun i v2402 v2404 k1_hw14 k1_t131 k1_t134 => k1_hw14.2.1.2.2.2.2.2.2.2.2.2.2.1 k1_t131 k1_t134
theorem k1_off1822_inb : ∀ (i : grid1.Coords) (v2402 : BitVec 32) (v2404 : BitVec 32) (k1_hw14 : k1_chk14 i v2402 v2404) (k1_t131 : Fin (k1_t131_loop v2402 v2404).trips) (k1_t134 : Fin (k1_t134_loop v2402 v2404 k1_t131).trips), ∀ a, (k1_off1822 v2402 v2404 k1_t131 k1_t134) a + S1x16.size a ≤ S72x256.size a := fun i v2402 v2404 k1_hw14 k1_t131 k1_t134 => k1_hw14.2.1.2.2.2.2.2.2.2.2.2.2.2.1 k1_t131 k1_t134
theorem k1_off1823_inb : ∀ (i : grid1.Coords) (v2402 : BitVec 32) (v2404 : BitVec 32) (k1_hw14 : k1_chk14 i v2402 v2404) (k1_t131 : Fin (k1_t131_loop v2402 v2404).trips) (k1_t134 : Fin (k1_t134_loop v2402 v2404 k1_t131).trips), ∀ a, (k1_off1823 v2402 v2404 k1_t131 k1_t134) a + S1x16.size a ≤ S72x256.size a := fun i v2402 v2404 k1_hw14 k1_t131 k1_t134 => k1_hw14.2.1.2.2.2.2.2.2.2.2.2.2.2.2.1 k1_t131 k1_t134
theorem k1_off1824_inb : ∀ (i : grid1.Coords) (v2402 : BitVec 32) (v2404 : BitVec 32) (k1_hw14 : k1_chk14 i v2402 v2404) (k1_t131 : Fin (k1_t131_loop v2402 v2404).trips) (k1_t134 : Fin (k1_t134_loop v2402 v2404 k1_t131).trips), ∀ a, (k1_off1824 v2402 v2404 k1_t131 k1_t134) a + S1x16.size a ≤ S72x256.size a := fun i v2402 v2404 k1_hw14 k1_t131 k1_t134 => k1_hw14.2.1.2.2.2.2.2.2.2.2.2.2.2.2.2.1 k1_t131 k1_t134
theorem k1_off1825_inb : ∀ (i : grid1.Coords) (v2402 : BitVec 32) (v2404 : BitVec 32) (k1_hw14 : k1_chk14 i v2402 v2404) (k1_t131 : Fin (k1_t131_loop v2402 v2404).trips) (k1_t134 : Fin (k1_t134_loop v2402 v2404 k1_t131).trips), ∀ a, (k1_off1825 v2402 v2404 k1_t131 k1_t134) a + S1x16.size a ≤ S72x256.size a := fun i v2402 v2404 k1_hw14 k1_t131 k1_t134 => k1_hw14.2.1.2.2.2.2.2.2.2.2.2.2.2.2.2.2.1 k1_t131 k1_t134
theorem k1_off1826_inb : ∀ (i : grid1.Coords) (v2402 : BitVec 32) (v2404 : BitVec 32) (k1_hw14 : k1_chk14 i v2402 v2404) (k1_t131 : Fin (k1_t131_loop v2402 v2404).trips) (k1_t134 : Fin (k1_t134_loop v2402 v2404 k1_t131).trips), ∀ a, (k1_off1826 v2402 v2404 k1_t131 k1_t134) a + S1x16.size a ≤ S72x256.size a := fun i v2402 v2404 k1_hw14 k1_t131 k1_t134 => k1_hw14.2.1.2.2.2.2.2.2.2.2.2.2.2.2.2.2.2.1 k1_t131 k1_t134
theorem k1_off1827_inb : ∀ (i : grid1.Coords) (v2402 : BitVec 32) (v2404 : BitVec 32) (k1_hw14 : k1_chk14 i v2402 v2404) (k1_t131 : Fin (k1_t131_loop v2402 v2404).trips) (k1_t134 : Fin (k1_t134_loop v2402 v2404 k1_t131).trips), ∀ a, (k1_off1827 v2402 v2404 k1_t131 k1_t134) a + S1x16.size a ≤ S72x256.size a := fun i v2402 v2404 k1_hw14 k1_t131 k1_t134 => k1_hw14.2.1.2.2.2.2.2.2.2.2.2.2.2.2.2.2.2.2.1 k1_t131 k1_t134
theorem k1_off1828_inb : ∀ (i : grid1.Coords) (v2402 : BitVec 32) (v2404 : BitVec 32) (k1_hw14 : k1_chk14 i v2402 v2404) (k1_t131 : Fin (k1_t131_loop v2402 v2404).trips) (k1_t134 : Fin (k1_t134_loop v2402 v2404 k1_t131).trips), ∀ a, (k1_off1828 v2402 v2404 k1_t131 k1_t134) a + S1x16.size a ≤ S72x256.size a := fun i v2402 v2404 k1_hw14 k1_t131 k1_t134 => k1_hw14.2.1.2.2.2.2.2.2.2.2.2.2.2.2.2.2.2.2.2.1 k1_t131 k1_t134
theorem k1_off1829_inb : ∀ (i : grid1.Coords) (v2402 : BitVec 32) (v2404 : BitVec 32) (k1_hw14 : k1_chk14 i v2402 v2404) (k1_t131 : Fin (k1_t131_loop v2402 v2404).trips) (k1_t134 : Fin (k1_t134_loop v2402 v2404 k1_t131).trips), ∀ a, (k1_off1829 v2402 v2404 k1_t131 k1_t134) a + S1x16.size a ≤ S72x256.size a := fun i v2402 v2404 k1_hw14 k1_t131 k1_t134 => k1_hw14.2.1.2.2.2.2.2.2.2.2.2.2.2.2.2.2.2.2.2.2.1 k1_t131 k1_t134
theorem k1_off1830_inb : ∀ (i : grid1.Coords) (v2402 : BitVec 32) (v2404 : BitVec 32) (k1_hw14 : k1_chk14 i v2402 v2404) (k1_t131 : Fin (k1_t131_loop v2402 v2404).trips) (k1_t134 : Fin (k1_t134_loop v2402 v2404 k1_t131).trips), ∀ a, (k1_off1830 v2402 v2404 k1_t131 k1_t134) a + S1x16.size a ≤ S72x256.size a := fun i v2402 v2404 k1_hw14 k1_t131 k1_t134 => k1_hw14.2.1.2.2.2.2.2.2.2.2.2.2.2.2.2.2.2.2.2.2.2.1 k1_t131 k1_t134
theorem k1_off1831_inb : ∀ (i : grid1.Coords) (v2402 : BitVec 32) (v2404 : BitVec 32) (k1_hw14 : k1_chk14 i v2402 v2404) (k1_t131 : Fin (k1_t131_loop v2402 v2404).trips) (k1_t134 : Fin (k1_t134_loop v2402 v2404 k1_t131).trips), ∀ a, (k1_off1831 v2402 v2404 k1_t131 k1_t134) a + S1x16.size a ≤ S72x256.size a := fun i v2402 v2404 k1_hw14 k1_t131 k1_t134 => k1_hw14.2.1.2.2.2.2.2.2.2.2.2.2.2.2.2.2.2.2.2.2.2.2.1 k1_t131 k1_t134
theorem k1_off1832_inb : ∀ (i : grid1.Coords) (v2402 : BitVec 32) (v2404 : BitVec 32) (k1_hw14 : k1_chk14 i v2402 v2404) (k1_t131 : Fin (k1_t131_loop v2402 v2404).trips) (k1_t134 : Fin (k1_t134_loop v2402 v2404 k1_t131).trips), ∀ a, (k1_off1832 v2402 v2404 k1_t131 k1_t134) a + S1x16.size a ≤ S72x256.size a := fun i v2402 v2404 k1_hw14 k1_t131 k1_t134 => k1_hw14.2.1.2.2.2.2.2.2.2.2.2.2.2.2.2.2.2.2.2.2.2.2.2.1 k1_t131 k1_t134
theorem k1_off1833_inb : ∀ (i : grid1.Coords) (v2402 : BitVec 32) (v2404 : BitVec 32) (k1_hw14 : k1_chk14 i v2402 v2404) (k1_t131 : Fin (k1_t131_loop v2402 v2404).trips) (k1_t134 : Fin (k1_t134_loop v2402 v2404 k1_t131).trips), ∀ a, (k1_off1833 v2402 v2404 k1_t131 k1_t134) a + S1x16.size a ≤ S72x256.size a := fun i v2402 v2404 k1_hw14 k1_t131 k1_t134 => k1_hw14.2.1.2.2.2.2.2.2.2.2.2.2.2.2.2.2.2.2.2.2.2.2.2.2.1 k1_t131 k1_t134
theorem k1_off1834_inb : ∀ (i : grid1.Coords) (v2402 : BitVec 32) (v2404 : BitVec 32) (k1_hw14 : k1_chk14 i v2402 v2404) (k1_t131 : Fin (k1_t131_loop v2402 v2404).trips) (k1_t134 : Fin (k1_t134_loop v2402 v2404 k1_t131).trips), ∀ a, (k1_off1834 v2402 v2404 k1_t131 k1_t134) a + S1x16.size a ≤ S72x256.size a := fun i v2402 v2404 k1_hw14 k1_t131 k1_t134 => k1_hw14.2.1.2.2.2.2.2.2.2.2.2.2.2.2.2.2.2.2.2.2.2.2.2.2.2.1 k1_t131 k1_t134
theorem k1_off1835_inb : ∀ (i : grid1.Coords) (v2402 : BitVec 32) (v2404 : BitVec 32) (k1_hw14 : k1_chk14 i v2402 v2404) (k1_t131 : Fin (k1_t131_loop v2402 v2404).trips) (k1_t134 : Fin (k1_t134_loop v2402 v2404 k1_t131).trips), ∀ a, (k1_off1835 v2402 v2404 k1_t131 k1_t134) a + S1x16.size a ≤ S72x256.size a := fun i v2402 v2404 k1_hw14 k1_t131 k1_t134 => k1_hw14.2.1.2.2.2.2.2.2.2.2.2.2.2.2.2.2.2.2.2.2.2.2.2.2.2.2.1 k1_t131 k1_t134
theorem k1_t135_ok : ∀ (i : grid1.Coords) (v2402 : BitVec 32) (v2404 : BitVec 32) (k1_hw14 : k1_chk14 i v2402 v2404) (k1_t131 : Fin (k1_t131_loop v2402 v2404).trips), (k1_t135_loop v2402 v2404 k1_t131).OK := fun i v2402 v2404 k1_hw14 k1_t131 => k1_hw14.2.1.2.2.2.2.2.2.2.2.2.2.2.2.2.2.2.2.2.2.2.2.2.2.2.2.2.1 k1_t131
theorem k1_off1836_inb : ∀ (i : grid1.Coords) (v2402 : BitVec 32) (v2404 : BitVec 32) (k1_hw14 : k1_chk14 i v2402 v2404) (k1_t131 : Fin (k1_t131_loop v2402 v2404).trips) (k1_t135 : Fin (k1_t135_loop v2402 v2404 k1_t131).trips), ∀ a, (k1_off1836 v2402 v2404 k1_t131 k1_t135) a + S1x16.size a ≤ S72x256.size a := fun i v2402 v2404 k1_hw14 k1_t131 k1_t135 => k1_hw14.2.1.2.2.2.2.2.2.2.2.2.2.2.2.2.2.2.2.2.2.2.2.2.2.2.2.2.2.1 k1_t131 k1_t135
theorem k1_off1837_inb : ∀ (i : grid1.Coords) (v2402 : BitVec 32) (v2404 : BitVec 32) (k1_hw14 : k1_chk14 i v2402 v2404) (k1_t131 : Fin (k1_t131_loop v2402 v2404).trips) (k1_t135 : Fin (k1_t135_loop v2402 v2404 k1_t131).trips), ∀ a, (k1_off1837 v2402 v2404 k1_t131 k1_t135) a + S1x16.size a ≤ S72x256.size a := fun i v2402 v2404 k1_hw14 k1_t131 k1_t135 => k1_hw14.2.1.2.2.2.2.2.2.2.2.2.2.2.2.2.2.2.2.2.2.2.2.2.2.2.2.2.2.2.1 k1_t131 k1_t135
theorem k1_off1838_inb : ∀ (i : grid1.Coords) (v2402 : BitVec 32) (v2404 : BitVec 32) (k1_hw14 : k1_chk14 i v2402 v2404) (k1_t131 : Fin (k1_t131_loop v2402 v2404).trips) (k1_t135 : Fin (k1_t135_loop v2402 v2404 k1_t131).trips), ∀ a, (k1_off1838 v2402 v2404 k1_t131 k1_t135) a + S1x16.size a ≤ S72x256.size a := fun i v2402 v2404 k1_hw14 k1_t131 k1_t135 => k1_hw14.2.1.2.2.2.2.2.2.2.2.2.2.2.2.2.2.2.2.2.2.2.2.2.2.2.2.2.2.2.2.1 k1_t131 k1_t135
theorem k1_off1839_inb : ∀ (i : grid1.Coords) (v2402 : BitVec 32) (v2404 : BitVec 32) (k1_hw14 : k1_chk14 i v2402 v2404) (k1_t131 : Fin (k1_t131_loop v2402 v2404).trips) (k1_t135 : Fin (k1_t135_loop v2402 v2404 k1_t131).trips), ∀ a, (k1_off1839 v2402 v2404 k1_t131 k1_t135) a + S1x16.size a ≤ S72x256.size a := fun i v2402 v2404 k1_hw14 k1_t131 k1_t135 => k1_hw14.2.1.2.2.2.2.2.2.2.2.2.2.2.2.2.2.2.2.2.2.2.2.2.2.2.2.2.2.2.2.2.1 k1_t131 k1_t135
theorem k1_off1840_inb : ∀ (i : grid1.Coords) (v2402 : BitVec 32) (v2404 : BitVec 32) (k1_hw14 : k1_chk14 i v2402 v2404) (k1_t131 : Fin (k1_t131_loop v2402 v2404).trips) (k1_t135 : Fin (k1_t135_loop v2402 v2404 k1_t131).trips), ∀ a, (k1_off1840 v2402 v2404 k1_t131 k1_t135) a + S1x16.size a ≤ S72x256.size a := fun i v2402 v2404 k1_hw14 k1_t131 k1_t135 => k1_hw14.2.1.2.2.2.2.2.2.2.2.2.2.2.2.2.2.2.2.2.2.2.2.2.2.2.2.2.2.2.2.2.2.1 k1_t131 k1_t135
theorem k1_off1841_inb : ∀ (i : grid1.Coords) (v2402 : BitVec 32) (v2404 : BitVec 32) (k1_hw14 : k1_chk14 i v2402 v2404) (k1_t131 : Fin (k1_t131_loop v2402 v2404).trips) (k1_t135 : Fin (k1_t135_loop v2402 v2404 k1_t131).trips), ∀ a, (k1_off1841 v2402 v2404 k1_t131 k1_t135) a + S1x16.size a ≤ S72x256.size a := fun i v2402 v2404 k1_hw14 k1_t131 k1_t135 => k1_hw14.2.1.2.2.2.2.2.2.2.2.2.2.2.2.2.2.2.2.2.2.2.2.2.2.2.2.2.2.2.2.2.2.2 k1_t131 k1_t135
theorem k1_off1842_inb : ∀ (i : grid1.Coords) (v2402 : BitVec 32) (v2404 : BitVec 32) (k1_hw14 : k1_chk14 i v2402 v2404) (k1_t131 : Fin (k1_t131_loop v2402 v2404).trips) (k1_t135 : Fin (k1_t135_loop v2402 v2404 k1_t131).trips), ∀ a, (k1_off1842 v2402 v2404 k1_t131 k1_t135) a + S1x16.size a ≤ S72x256.size a := fun i v2402 v2404 k1_hw14 k1_t131 k1_t135 => k1_hw14.2.2.1.1 k1_t131 k1_t135
theorem k1_off1843_inb : ∀ (i : grid1.Coords) (v2402 : BitVec 32) (v2404 : BitVec 32) (k1_hw14 : k1_chk14 i v2402 v2404) (k1_t131 : Fin (k1_t131_loop v2402 v2404).trips) (k1_t135 : Fin (k1_t135_loop v2402 v2404 k1_t131).trips), ∀ a, (k1_off1843 v2402 v2404 k1_t131 k1_t135) a + S1x16.size a ≤ S72x256.size a := fun i v2402 v2404 k1_hw14 k1_t131 k1_t135 => k1_hw14.2.2.1.2.1 k1_t131 k1_t135
theorem k1_off1844_inb : ∀ (i : grid1.Coords) (v2402 : BitVec 32) (v2404 : BitVec 32) (k1_hw14 : k1_chk14 i v2402 v2404) (k1_t131 : Fin (k1_t131_loop v2402 v2404).trips) (k1_t135 : Fin (k1_t135_loop v2402 v2404 k1_t131).trips), ∀ a, (k1_off1844 v2402 v2404 k1_t131 k1_t135) a + S1x16.size a ≤ S72x256.size a := fun i v2402 v2404 k1_hw14 k1_t131 k1_t135 => k1_hw14.2.2.1.2.2.1 k1_t131 k1_t135
theorem k1_off1845_inb : ∀ (i : grid1.Coords) (v2402 : BitVec 32) (v2404 : BitVec 32) (k1_hw14 : k1_chk14 i v2402 v2404) (k1_t131 : Fin (k1_t131_loop v2402 v2404).trips) (k1_t135 : Fin (k1_t135_loop v2402 v2404 k1_t131).trips), ∀ a, (k1_off1845 v2402 v2404 k1_t131 k1_t135) a + S1x16.size a ≤ S72x256.size a := fun i v2402 v2404 k1_hw14 k1_t131 k1_t135 => k1_hw14.2.2.1.2.2.2.1 k1_t131 k1_t135
theorem k1_off1846_inb : ∀ (i : grid1.Coords) (v2402 : BitVec 32) (v2404 : BitVec 32) (k1_hw14 : k1_chk14 i v2402 v2404) (k1_t131 : Fin (k1_t131_loop v2402 v2404).trips) (k1_t135 : Fin (k1_t135_loop v2402 v2404 k1_t131).trips), ∀ a, (k1_off1846 v2402 v2404 k1_t131 k1_t135) a + S1x16.size a ≤ S72x256.size a := fun i v2402 v2404 k1_hw14 k1_t131 k1_t135 => k1_hw14.2.2.1.2.2.2.2.1 k1_t131 k1_t135
theorem k1_off1847_inb : ∀ (i : grid1.Coords) (v2402 : BitVec 32) (v2404 : BitVec 32) (k1_hw14 : k1_chk14 i v2402 v2404) (k1_t131 : Fin (k1_t131_loop v2402 v2404).trips) (k1_t135 : Fin (k1_t135_loop v2402 v2404 k1_t131).trips), ∀ a, (k1_off1847 v2402 v2404 k1_t131 k1_t135) a + S1x16.size a ≤ S72x256.size a := fun i v2402 v2404 k1_hw14 k1_t131 k1_t135 => k1_hw14.2.2.1.2.2.2.2.2.1 k1_t131 k1_t135
theorem k1_off1848_inb : ∀ (i : grid1.Coords) (v2402 : BitVec 32) (v2404 : BitVec 32) (k1_hw14 : k1_chk14 i v2402 v2404) (k1_t131 : Fin (k1_t131_loop v2402 v2404).trips) (k1_t135 : Fin (k1_t135_loop v2402 v2404 k1_t131).trips), ∀ a, (k1_off1848 v2402 v2404 k1_t131 k1_t135) a + S1x16.size a ≤ S72x256.size a := fun i v2402 v2404 k1_hw14 k1_t131 k1_t135 => k1_hw14.2.2.1.2.2.2.2.2.2.1 k1_t131 k1_t135
theorem k1_off1849_inb : ∀ (i : grid1.Coords) (v2402 : BitVec 32) (v2404 : BitVec 32) (k1_hw14 : k1_chk14 i v2402 v2404) (k1_t131 : Fin (k1_t131_loop v2402 v2404).trips) (k1_t135 : Fin (k1_t135_loop v2402 v2404 k1_t131).trips), ∀ a, (k1_off1849 v2402 v2404 k1_t131 k1_t135) a + S1x16.size a ≤ S72x256.size a := fun i v2402 v2404 k1_hw14 k1_t131 k1_t135 => k1_hw14.2.2.1.2.2.2.2.2.2.2.1 k1_t131 k1_t135
theorem k1_off1850_inb : ∀ (i : grid1.Coords) (v2402 : BitVec 32) (v2404 : BitVec 32) (k1_hw14 : k1_chk14 i v2402 v2404) (k1_t131 : Fin (k1_t131_loop v2402 v2404).trips) (k1_t135 : Fin (k1_t135_loop v2402 v2404 k1_t131).trips), ∀ a, (k1_off1850 v2402 v2404 k1_t131 k1_t135) a + S1x16.size a ≤ S72x256.size a := fun i v2402 v2404 k1_hw14 k1_t131 k1_t135 => k1_hw14.2.2.1.2.2.2.2.2.2.2.2.1 k1_t131 k1_t135
theorem k1_off1851_inb : ∀ (i : grid1.Coords) (v2402 : BitVec 32) (v2404 : BitVec 32) (k1_hw14 : k1_chk14 i v2402 v2404) (k1_t131 : Fin (k1_t131_loop v2402 v2404).trips) (k1_t135 : Fin (k1_t135_loop v2402 v2404 k1_t131).trips), ∀ a, (k1_off1851 v2402 v2404 k1_t131 k1_t135) a + S1x16.size a ≤ S72x256.size a := fun i v2402 v2404 k1_hw14 k1_t131 k1_t135 => k1_hw14.2.2.1.2.2.2.2.2.2.2.2.2.1 k1_t131 k1_t135
theorem k1_t136_ok : ∀ (i : grid1.Coords) (v2402 : BitVec 32) (v2404 : BitVec 32) (k1_hw14 : k1_chk14 i v2402 v2404), (k1_t136_loop v2402 v2404).OK := fun i v2402 v2404 k1_hw14 => k1_hw14.2.2.1.2.2.2.2.2.2.2.2.2.2.1
theorem k1_off1852_inb : ∀ (i : grid1.Coords) (v2402 : BitVec 32) (v2404 : BitVec 32) (k1_hw14 : k1_chk14 i v2402 v2404) (k1_t136 : Fin (k1_t136_loop v2402 v2404).trips), ∀ (k1_h123 : k1_cond123 v2402 v2404 k1_t136 = 1#1), ∀ a, (k1_off1852 i v2402 v2404 k1_t136) a + S72x256.size a ≤ S100000x512.size a := fun i v2402 v2404 k1_hw14 k1_t136 k1_h123 => k1_hw14.2.2.1.2.2.2.2.2.2.2.2.2.2.2.1 k1_t136 k1_h123
theorem k1_off1853_inb : ∀ (i : grid1.Coords) (v2402 : BitVec 32) (v2404 : BitVec 32) (k1_hw14 : k1_chk14 i v2402 v2404) (k1_t136 : Fin (k1_t136_loop v2402 v2404).trips), ∀ (k1_h123 : k1_cond123 v2402 v2404 k1_t136 = 1#1), ∀ (k1_h124 : k1_cond124 v2402 v2404 k1_t136 = 1#1), ∀ a, (k1_off1853 i v2402 v2404 k1_t136) a + S72x256.size a ≤ S100000x512.size a := fun i v2402 v2404 k1_hw14 k1_t136 k1_h123 k1_h124 => k1_hw14.2.2.1.2.2.2.2.2.2.2.2.2.2.2.2.1 k1_t136 k1_h123 k1_h124
theorem k1_t137_ok : ∀ (i : grid1.Coords) (v2402 : BitVec 32) (v2404 : BitVec 32) (k1_hw14 : k1_chk14 i v2402 v2404) (k1_t136 : Fin (k1_t136_loop v2402 v2404).trips), (k1_t137_loop v2402 v2404 k1_t136).OK := fun i v2402 v2404 k1_hw14 k1_t136 => k1_hw14.2.2.1.2.2.2.2.2.2.2.2.2.2.2.2.2.1 k1_t136
theorem k1_off1854_inb : ∀ (i : grid1.Coords) (v2402 : BitVec 32) (v2404 : BitVec 32) (k1_hw14 : k1_chk14 i v2402 v2404) (k1_t136 : Fin (k1_t136_loop v2402 v2404).trips) (k1_t137 : Fin (k1_t137_loop v2402 v2404 k1_t136).trips), ∀ a, (k1_off1854 v2402 v2404 k1_t136 k1_t137) a + S1x16.size a ≤ S72x256.size a := fun i v2402 v2404 k1_hw14 k1_t136 k1_t137 => k1_hw14.2.2.1.2.2.2.2.2.2.2.2.2.2.2.2.2.2.1 k1_t136 k1_t137
theorem k1_off1855_inb : ∀ (i : grid1.Coords) (v2402 : BitVec 32) (v2404 : BitVec 32) (k1_hw14 : k1_chk14 i v2402 v2404) (k1_t136 : Fin (k1_t136_loop v2402 v2404).trips) (k1_t137 : Fin (k1_t137_loop v2402 v2404 k1_t136).trips), ∀ a, (k1_off1855 v2402 v2404 k1_t136 k1_t137) a + S1x16.size a ≤ S72x256.size a := fun i v2402 v2404 k1_hw14 k1_t136 k1_t137 => k1_hw14.2.2.1.2.2.2.2.2.2.2.2.2.2.2.2.2.2.2.1 k1_t136 k1_t137
theorem k1_off1856_inb : ∀ (i : grid1.Coords) (v2402 : BitVec 32) (v2404 : BitVec 32) (k1_hw14 : k1_chk14 i v2402 v2404) (k1_t136 : Fin (k1_t136_loop v2402 v2404).trips) (k1_t137 : Fin (k1_t137_loop v2402 v2404 k1_t136).trips), ∀ a, (k1_off1856 v2402 v2404 k1_t136 k1_t137) a + S1x16.size a ≤ S72x256.size a := fun i v2402 v2404 k1_hw14 k1_t136 k1_t137 => k1_hw14.2.2.1.2.2.2.2.2.2.2.2.2.2.2.2.2.2.2.2.1 k1_t136 k1_t137
theorem k1_off1857_inb : ∀ (i : grid1.Coords) (v2402 : BitVec 32) (v2404 : BitVec 32) (k1_hw14 : k1_chk14 i v2402 v2404) (k1_t136 : Fin (k1_t136_loop v2402 v2404).trips) (k1_t137 : Fin (k1_t137_loop v2402 v2404 k1_t136).trips), ∀ a, (k1_off1857 v2402 v2404 k1_t136 k1_t137) a + S1x16.size a ≤ S72x256.size a := fun i v2402 v2404 k1_hw14 k1_t136 k1_t137 => k1_hw14.2.2.1.2.2.2.2.2.2.2.2.2.2.2.2.2.2.2.2.2.1 k1_t136 k1_t137
theorem k1_off1858_inb : ∀ (i : grid1.Coords) (v2402 : BitVec 32) (v2404 : BitVec 32) (k1_hw14 : k1_chk14 i v2402 v2404) (k1_t136 : Fin (k1_t136_loop v2402 v2404).trips) (k1_t137 : Fin (k1_t137_loop v2402 v2404 k1_t136).trips), ∀ a, (k1_off1858 v2402 v2404 k1_t136 k1_t137) a + S1x16.size a ≤ S72x256.size a := fun i v2402 v2404 k1_hw14 k1_t136 k1_t137 => k1_hw14.2.2.1.2.2.2.2.2.2.2.2.2.2.2.2.2.2.2.2.2.2.1 k1_t136 k1_t137
theorem k1_off1859_inb : ∀ (i : grid1.Coords) (v2402 : BitVec 32) (v2404 : BitVec 32) (k1_hw14 : k1_chk14 i v2402 v2404) (k1_t136 : Fin (k1_t136_loop v2402 v2404).trips) (k1_t137 : Fin (k1_t137_loop v2402 v2404 k1_t136).trips), ∀ a, (k1_off1859 v2402 v2404 k1_t136 k1_t137) a + S1x16.size a ≤ S72x256.size a := fun i v2402 v2404 k1_hw14 k1_t136 k1_t137 => k1_hw14.2.2.1.2.2.2.2.2.2.2.2.2.2.2.2.2.2.2.2.2.2.2.1 k1_t136 k1_t137
theorem k1_off1860_inb : ∀ (i : grid1.Coords) (v2402 : BitVec 32) (v2404 : BitVec 32) (k1_hw14 : k1_chk14 i v2402 v2404) (k1_t136 : Fin (k1_t136_loop v2402 v2404).trips) (k1_t137 : Fin (k1_t137_loop v2402 v2404 k1_t136).trips), ∀ a, (k1_off1860 v2402 v2404 k1_t136 k1_t137) a + S1x16.size a ≤ S72x256.size a := fun i v2402 v2404 k1_hw14 k1_t136 k1_t137 => k1_hw14.2.2.1.2.2.2.2.2.2.2.2.2.2.2.2.2.2.2.2.2.2.2.2.1 k1_t136 k1_t137
theorem k1_off1861_inb : ∀ (i : grid1.Coords) (v2402 : BitVec 32) (v2404 : BitVec 32) (k1_hw14 : k1_chk14 i v2402 v2404) (k1_t136 : Fin (k1_t136_loop v2402 v2404).trips) (k1_t137 : Fin (k1_t137_loop v2402 v2404 k1_t136).trips), ∀ a, (k1_off1861 v2402 v2404 k1_t136 k1_t137) a + S1x16.size a ≤ S72x256.size a := fun i v2402 v2404 k1_hw14 k1_t136 k1_t137 => k1_hw14.2.2.1.2.2.2.2.2.2.2.2.2.2.2.2.2.2.2.2.2.2.2.2.2.1 k1_t136 k1_t137
theorem k1_off1862_inb : ∀ (i : grid1.Coords) (v2402 : BitVec 32) (v2404 : BitVec 32) (k1_hw14 : k1_chk14 i v2402 v2404) (k1_t136 : Fin (k1_t136_loop v2402 v2404).trips) (k1_t137 : Fin (k1_t137_loop v2402 v2404 k1_t136).trips), ∀ a, (k1_off1862 v2402 v2404 k1_t136 k1_t137) a + S1x16.size a ≤ S72x256.size a := fun i v2402 v2404 k1_hw14 k1_t136 k1_t137 => k1_hw14.2.2.1.2.2.2.2.2.2.2.2.2.2.2.2.2.2.2.2.2.2.2.2.2.2.1 k1_t136 k1_t137
theorem k1_off1863_inb : ∀ (i : grid1.Coords) (v2402 : BitVec 32) (v2404 : BitVec 32) (k1_hw14 : k1_chk14 i v2402 v2404) (k1_t136 : Fin (k1_t136_loop v2402 v2404).trips) (k1_t137 : Fin (k1_t137_loop v2402 v2404 k1_t136).trips), ∀ a, (k1_off1863 v2402 v2404 k1_t136 k1_t137) a + S1x16.size a ≤ S72x256.size a := fun i v2402 v2404 k1_hw14 k1_t136 k1_t137 => k1_hw14.2.2.1.2.2.2.2.2.2.2.2.2.2.2.2.2.2.2.2.2.2.2.2.2.2.2.1 k1_t136 k1_t137
theorem k1_off1864_inb : ∀ (i : grid1.Coords) (v2402 : BitVec 32) (v2404 : BitVec 32) (k1_hw14 : k1_chk14 i v2402 v2404) (k1_t136 : Fin (k1_t136_loop v2402 v2404).trips) (k1_t137 : Fin (k1_t137_loop v2402 v2404 k1_t136).trips), ∀ a, (k1_off1864 v2402 v2404 k1_t136 k1_t137) a + S1x16.size a ≤ S72x256.size a := fun i v2402 v2404 k1_hw14 k1_t136 k1_t137 => k1_hw14.2.2.1.2.2.2.2.2.2.2.2.2.2.2.2.2.2.2.2.2.2.2.2.2.2.2.2.1 k1_t136 k1_t137
theorem k1_off1865_inb : ∀ (i : grid1.Coords) (v2402 : BitVec 32) (v2404 : BitVec 32) (k1_hw14 : k1_chk14 i v2402 v2404) (k1_t136 : Fin (k1_t136_loop v2402 v2404).trips) (k1_t137 : Fin (k1_t137_loop v2402 v2404 k1_t136).trips), ∀ a, (k1_off1865 v2402 v2404 k1_t136 k1_t137) a + S1x16.size a ≤ S72x256.size a := fun i v2402 v2404 k1_hw14 k1_t136 k1_t137 => k1_hw14.2.2.1.2.2.2.2.2.2.2.2.2.2.2.2.2.2.2.2.2.2.2.2.2.2.2.2.2.1 k1_t136 k1_t137
theorem k1_off1866_inb : ∀ (i : grid1.Coords) (v2402 : BitVec 32) (v2404 : BitVec 32) (k1_hw14 : k1_chk14 i v2402 v2404) (k1_t136 : Fin (k1_t136_loop v2402 v2404).trips) (k1_t137 : Fin (k1_t137_loop v2402 v2404 k1_t136).trips), ∀ a, (k1_off1866 v2402 v2404 k1_t136 k1_t137) a + S1x16.size a ≤ S72x256.size a := fun i v2402 v2404 k1_hw14 k1_t136 k1_t137 => k1_hw14.2.2.1.2.2.2.2.2.2.2.2.2.2.2.2.2.2.2.2.2.2.2.2.2.2.2.2.2.2.1 k1_t136 k1_t137
theorem k1_off1867_inb : ∀ (i : grid1.Coords) (v2402 : BitVec 32) (v2404 : BitVec 32) (k1_hw14 : k1_chk14 i v2402 v2404) (k1_t136 : Fin (k1_t136_loop v2402 v2404).trips) (k1_t137 : Fin (k1_t137_loop v2402 v2404 k1_t136).trips), ∀ a, (k1_off1867 v2402 v2404 k1_t136 k1_t137) a + S1x16.size a ≤ S72x256.size a := fun i v2402 v2404 k1_hw14 k1_t136 k1_t137 => k1_hw14.2.2.1.2.2.2.2.2.2.2.2.2.2.2.2.2.2.2.2.2.2.2.2.2.2.2.2.2.2.2.1 k1_t136 k1_t137
theorem k1_off1868_inb : ∀ (i : grid1.Coords) (v2402 : BitVec 32) (v2404 : BitVec 32) (k1_hw14 : k1_chk14 i v2402 v2404) (k1_t136 : Fin (k1_t136_loop v2402 v2404).trips) (k1_t137 : Fin (k1_t137_loop v2402 v2404 k1_t136).trips), ∀ a, (k1_off1868 v2402 v2404 k1_t136 k1_t137) a + S1x16.size a ≤ S72x256.size a := fun i v2402 v2404 k1_hw14 k1_t136 k1_t137 => k1_hw14.2.2.1.2.2.2.2.2.2.2.2.2.2.2.2.2.2.2.2.2.2.2.2.2.2.2.2.2.2.2.2.1 k1_t136 k1_t137
theorem k1_off1869_inb : ∀ (i : grid1.Coords) (v2402 : BitVec 32) (v2404 : BitVec 32) (k1_hw14 : k1_chk14 i v2402 v2404) (k1_t136 : Fin (k1_t136_loop v2402 v2404).trips) (k1_t137 : Fin (k1_t137_loop v2402 v2404 k1_t136).trips), ∀ a, (k1_off1869 v2402 v2404 k1_t136 k1_t137) a + S1x16.size a ≤ S72x256.size a := fun i v2402 v2404 k1_hw14 k1_t136 k1_t137 => k1_hw14.2.2.1.2.2.2.2.2.2.2.2.2.2.2.2.2.2.2.2.2.2.2.2.2.2.2.2.2.2.2.2.2.1 k1_t136 k1_t137
theorem k1_t138_ok : ∀ (i : grid1.Coords) (v2402 : BitVec 32) (v2404 : BitVec 32) (k1_hw14 : k1_chk14 i v2402 v2404) (k1_t136 : Fin (k1_t136_loop v2402 v2404).trips), (k1_t138_loop v2402 v2404 k1_t136).OK := fun i v2402 v2404 k1_hw14 k1_t136 => k1_hw14.2.2.1.2.2.2.2.2.2.2.2.2.2.2.2.2.2.2.2.2.2.2.2.2.2.2.2.2.2.2.2.2.2.1 k1_t136
theorem k1_off1870_inb : ∀ (i : grid1.Coords) (v2402 : BitVec 32) (v2404 : BitVec 32) (k1_hw14 : k1_chk14 i v2402 v2404) (k1_t136 : Fin (k1_t136_loop v2402 v2404).trips) (k1_t138 : Fin (k1_t138_loop v2402 v2404 k1_t136).trips), ∀ a, (k1_off1870 v2402 v2404 k1_t136 k1_t138) a + S1x16.size a ≤ S72x256.size a := fun i v2402 v2404 k1_hw14 k1_t136 k1_t138 => k1_hw14.2.2.1.2.2.2.2.2.2.2.2.2.2.2.2.2.2.2.2.2.2.2.2.2.2.2.2.2.2.2.2.2.2.2 k1_t136 k1_t138
theorem k1_off1871_inb : ∀ (i : grid1.Coords) (v2402 : BitVec 32) (v2404 : BitVec 32) (k1_hw14 : k1_chk14 i v2402 v2404) (k1_t136 : Fin (k1_t136_loop v2402 v2404).trips) (k1_t138 : Fin (k1_t138_loop v2402 v2404 k1_t136).trips), ∀ a, (k1_off1871 v2402 v2404 k1_t136 k1_t138) a + S1x16.size a ≤ S72x256.size a := fun i v2402 v2404 k1_hw14 k1_t136 k1_t138 => k1_hw14.2.2.2.1.1 k1_t136 k1_t138
theorem k1_off1872_inb : ∀ (i : grid1.Coords) (v2402 : BitVec 32) (v2404 : BitVec 32) (k1_hw14 : k1_chk14 i v2402 v2404) (k1_t136 : Fin (k1_t136_loop v2402 v2404).trips) (k1_t138 : Fin (k1_t138_loop v2402 v2404 k1_t136).trips), ∀ a, (k1_off1872 v2402 v2404 k1_t136 k1_t138) a + S1x16.size a ≤ S72x256.size a := fun i v2402 v2404 k1_hw14 k1_t136 k1_t138 => k1_hw14.2.2.2.1.2.1 k1_t136 k1_t138
theorem k1_off1873_inb : ∀ (i : grid1.Coords) (v2402 : BitVec 32) (v2404 : BitVec 32) (k1_hw14 : k1_chk14 i v2402 v2404) (k1_t136 : Fin (k1_t136_loop v2402 v2404).trips) (k1_t138 : Fin (k1_t138_loop v2402 v2404 k1_t136).trips), ∀ a, (k1_off1873 v2402 v2404 k1_t136 k1_t138) a + S1x16.size a ≤ S72x256.size a := fun i v2402 v2404 k1_hw14 k1_t136 k1_t138 => k1_hw14.2.2.2.1.2.2.1 k1_t136 k1_t138
theorem k1_off1874_inb : ∀ (i : grid1.Coords) (v2402 : BitVec 32) (v2404 : BitVec 32) (k1_hw14 : k1_chk14 i v2402 v2404) (k1_t136 : Fin (k1_t136_loop v2402 v2404).trips) (k1_t138 : Fin (k1_t138_loop v2402 v2404 k1_t136).trips), ∀ a, (k1_off1874 v2402 v2404 k1_t136 k1_t138) a + S1x16.size a ≤ S72x256.size a := fun i v2402 v2404 k1_hw14 k1_t136 k1_t138 => k1_hw14.2.2.2.1.2.2.2.1 k1_t136 k1_t138
theorem k1_off1875_inb : ∀ (i : grid1.Coords) (v2402 : BitVec 32) (v2404 : BitVec 32) (k1_hw14 : k1_chk14 i v2402 v2404) (k1_t136 : Fin (k1_t136_loop v2402 v2404).trips) (k1_t138 : Fin (k1_t138_loop v2402 v2404 k1_t136).trips), ∀ a, (k1_off1875 v2402 v2404 k1_t136 k1_t138) a + S1x16.size a ≤ S72x256.size a := fun i v2402 v2404 k1_hw14 k1_t136 k1_t138 => k1_hw14.2.2.2.1.2.2.2.2.1 k1_t136 k1_t138
theorem k1_off1876_inb : ∀ (i : grid1.Coords) (v2402 : BitVec 32) (v2404 : BitVec 32) (k1_hw14 : k1_chk14 i v2402 v2404) (k1_t136 : Fin (k1_t136_loop v2402 v2404).trips) (k1_t138 : Fin (k1_t138_loop v2402 v2404 k1_t136).trips), ∀ a, (k1_off1876 v2402 v2404 k1_t136 k1_t138) a + S1x16.size a ≤ S72x256.size a := fun i v2402 v2404 k1_hw14 k1_t136 k1_t138 => k1_hw14.2.2.2.1.2.2.2.2.2.1 k1_t136 k1_t138
theorem k1_off1877_inb : ∀ (i : grid1.Coords) (v2402 : BitVec 32) (v2404 : BitVec 32) (k1_hw14 : k1_chk14 i v2402 v2404) (k1_t136 : Fin (k1_t136_loop v2402 v2404).trips) (k1_t138 : Fin (k1_t138_loop v2402 v2404 k1_t136).trips), ∀ a, (k1_off1877 v2402 v2404 k1_t136 k1_t138) a + S1x16.size a ≤ S72x256.size a := fun i v2402 v2404 k1_hw14 k1_t136 k1_t138 => k1_hw14.2.2.2.1.2.2.2.2.2.2.1 k1_t136 k1_t138
theorem k1_off1878_inb : ∀ (i : grid1.Coords) (v2402 : BitVec 32) (v2404 : BitVec 32) (k1_hw14 : k1_chk14 i v2402 v2404) (k1_t136 : Fin (k1_t136_loop v2402 v2404).trips) (k1_t138 : Fin (k1_t138_loop v2402 v2404 k1_t136).trips), ∀ a, (k1_off1878 v2402 v2404 k1_t136 k1_t138) a + S1x16.size a ≤ S72x256.size a := fun i v2402 v2404 k1_hw14 k1_t136 k1_t138 => k1_hw14.2.2.2.1.2.2.2.2.2.2.2.1 k1_t136 k1_t138
theorem k1_off1879_inb : ∀ (i : grid1.Coords) (v2402 : BitVec 32) (v2404 : BitVec 32) (k1_hw14 : k1_chk14 i v2402 v2404) (k1_t136 : Fin (k1_t136_loop v2402 v2404).trips) (k1_t138 : Fin (k1_t138_loop v2402 v2404 k1_t136).trips), ∀ a, (k1_off1879 v2402 v2404 k1_t136 k1_t138) a + S1x16.size a ≤ S72x256.size a := fun i v2402 v2404 k1_hw14 k1_t136 k1_t138 => k1_hw14.2.2.2.1.2.2.2.2.2.2.2.2.1 k1_t136 k1_t138
theorem k1_off1880_inb : ∀ (i : grid1.Coords) (v2402 : BitVec 32) (v2404 : BitVec 32) (k1_hw14 : k1_chk14 i v2402 v2404) (k1_t136 : Fin (k1_t136_loop v2402 v2404).trips) (k1_t138 : Fin (k1_t138_loop v2402 v2404 k1_t136).trips), ∀ a, (k1_off1880 v2402 v2404 k1_t136 k1_t138) a + S1x16.size a ≤ S72x256.size a := fun i v2402 v2404 k1_hw14 k1_t136 k1_t138 => k1_hw14.2.2.2.1.2.2.2.2.2.2.2.2.2.1 k1_t136 k1_t138
theorem k1_off1881_inb : ∀ (i : grid1.Coords) (v2402 : BitVec 32) (v2404 : BitVec 32) (k1_hw14 : k1_chk14 i v2402 v2404) (k1_t136 : Fin (k1_t136_loop v2402 v2404).trips) (k1_t138 : Fin (k1_t138_loop v2402 v2404 k1_t136).trips), ∀ a, (k1_off1881 v2402 v2404 k1_t136 k1_t138) a + S1x16.size a ≤ S72x256.size a := fun i v2402 v2404 k1_hw14 k1_t136 k1_t138 => k1_hw14.2.2.2.1.2.2.2.2.2.2.2.2.2.2.1 k1_t136 k1_t138
theorem k1_off1882_inb : ∀ (i : grid1.Coords) (v2402 : BitVec 32) (v2404 : BitVec 32) (k1_hw14 : k1_chk14 i v2402 v2404) (k1_t136 : Fin (k1_t136_loop v2402 v2404).trips) (k1_t138 : Fin (k1_t138_loop v2402 v2404 k1_t136).trips), ∀ a, (k1_off1882 v2402 v2404 k1_t136 k1_t138) a + S1x16.size a ≤ S72x256.size a := fun i v2402 v2404 k1_hw14 k1_t136 k1_t138 => k1_hw14.2.2.2.1.2.2.2.2.2.2.2.2.2.2.2.1 k1_t136 k1_t138
theorem k1_off1883_inb : ∀ (i : grid1.Coords) (v2402 : BitVec 32) (v2404 : BitVec 32) (k1_hw14 : k1_chk14 i v2402 v2404) (k1_t136 : Fin (k1_t136_loop v2402 v2404).trips) (k1_t138 : Fin (k1_t138_loop v2402 v2404 k1_t136).trips), ∀ a, (k1_off1883 v2402 v2404 k1_t136 k1_t138) a + S1x16.size a ≤ S72x256.size a := fun i v2402 v2404 k1_hw14 k1_t136 k1_t138 => k1_hw14.2.2.2.1.2.2.2.2.2.2.2.2.2.2.2.2.1 k1_t136 k1_t138
theorem k1_off1884_inb : ∀ (i : grid1.Coords) (v2402 : BitVec 32) (v2404 : BitVec 32) (k1_hw14 : k1_chk14 i v2402 v2404) (k1_t136 : Fin (k1_t136_loop v2402 v2404).trips) (k1_t138 : Fin (k1_t138_loop v2402 v2404 k1_t136).trips), ∀ a, (k1_off1884 v2402 v2404 k1_t136 k1_t138) a + S1x16.size a ≤ S72x256.size a := fun i v2402 v2404 k1_hw14 k1_t136 k1_t138 => k1_hw14.2.2.2.1.2.2.2.2.2.2.2.2.2.2.2.2.2.1 k1_t136 k1_t138
theorem k1_off1885_inb : ∀ (i : grid1.Coords) (v2402 : BitVec 32) (v2404 : BitVec 32) (k1_hw14 : k1_chk14 i v2402 v2404) (k1_t136 : Fin (k1_t136_loop v2402 v2404).trips) (k1_t138 : Fin (k1_t138_loop v2402 v2404 k1_t136).trips), ∀ a, (k1_off1885 v2402 v2404 k1_t136 k1_t138) a + S1x16.size a ≤ S72x256.size a := fun i v2402 v2404 k1_hw14 k1_t136 k1_t138 => k1_hw14.2.2.2.1.2.2.2.2.2.2.2.2.2.2.2.2.2.2.1 k1_t136 k1_t138
theorem k1_off1886_inb : ∀ (i : grid1.Coords) (v2402 : BitVec 32) (v2404 : BitVec 32) (k1_hw14 : k1_chk14 i v2402 v2404) (k1_t136 : Fin (k1_t136_loop v2402 v2404).trips), ∀ (k1_h125 : k1_cond125 v2402 v2404 k1_t136 = 1#1), ∀ a, (k1_off1886 i v2402 v2404 k1_t136) a + S72x256.size a ≤ S100000x512.size a := fun i v2402 v2404 k1_hw14 k1_t136 k1_h125 => k1_hw14.2.2.2.1.2.2.2.2.2.2.2.2.2.2.2.2.2.2.2.1 k1_t136 k1_h125
theorem k1_off1887_inb : ∀ (i : grid1.Coords) (v2402 : BitVec 32) (v2404 : BitVec 32) (k1_hw14 : k1_chk14 i v2402 v2404) (k1_t136 : Fin (k1_t136_loop v2402 v2404).trips), ∀ (k1_h125 : k1_cond125 v2402 v2404 k1_t136 = 1#1), ∀ (k1_h126 : k1_cond126 v2402 v2404 k1_t136 = 1#1), ∀ a, (k1_off1887 i v2402 v2404 k1_t136) a + S72x256.size a ≤ S100000x512.size a := fun i v2402 v2404 k1_hw14 k1_t136 k1_h125 k1_h126 => k1_hw14.2.2.2.1.2.2.2.2.2.2.2.2.2.2.2.2.2.2.2.2.1 k1_t136 k1_h125 k1_h126
theorem k1_t139_ok : ∀ (i : grid1.Coords) (v2402 : BitVec 32) (v2404 : BitVec 32) (k1_hw14 : k1_chk14 i v2402 v2404) (k1_t136 : Fin (k1_t136_loop v2402 v2404).trips), (k1_t139_loop v2402 v2404 k1_t136).OK := fun i v2402 v2404 k1_hw14 k1_t136 => k1_hw14.2.2.2.1.2.2.2.2.2.2.2.2.2.2.2.2.2.2.2.2.2.1 k1_t136
theorem k1_off1888_inb : ∀ (i : grid1.Coords) (v2402 : BitVec 32) (v2404 : BitVec 32) (k1_hw14 : k1_chk14 i v2402 v2404) (k1_t136 : Fin (k1_t136_loop v2402 v2404).trips) (k1_t139 : Fin (k1_t139_loop v2402 v2404 k1_t136).trips), ∀ a, (k1_off1888 v2402 v2404 k1_t136 k1_t139) a + S1x16.size a ≤ S72x256.size a := fun i v2402 v2404 k1_hw14 k1_t136 k1_t139 => k1_hw14.2.2.2.1.2.2.2.2.2.2.2.2.2.2.2.2.2.2.2.2.2.2.1 k1_t136 k1_t139
theorem k1_off1889_inb : ∀ (i : grid1.Coords) (v2402 : BitVec 32) (v2404 : BitVec 32) (k1_hw14 : k1_chk14 i v2402 v2404) (k1_t136 : Fin (k1_t136_loop v2402 v2404).trips) (k1_t139 : Fin (k1_t139_loop v2402 v2404 k1_t136).trips), ∀ a, (k1_off1889 v2402 v2404 k1_t136 k1_t139) a + S1x16.size a ≤ S72x256.size a := fun i v2402 v2404 k1_hw14 k1_t136 k1_t139 => k1_hw14.2.2.2.1.2.2.2.2.2.2.2.2.2.2.2.2.2.2.2.2.2.2.2.1 k1_t136 k1_t139
theorem k1_off1890_inb : ∀ (i : grid1.Coords) (v2402 : BitVec 32) (v2404 : BitVec 32) (k1_hw14 : k1_chk14 i v2402 v2404) (k1_t136 : Fin (k1_t136_loop v2402 v2404).trips) (k1_t139 : Fin (k1_t139_loop v2402 v2404 k1_t136).trips), ∀ a, (k1_off1890 v2402 v2404 k1_t136 k1_t139) a + S1x16.size a ≤ S72x256.size a := fun i v2402 v2404 k1_hw14 k1_t136 k1_t139 => k1_hw14.2.2.2.1.2.2.2.2.2.2.2.2.2.2.2.2.2.2.2.2.2.2.2.2.1 k1_t136 k1_t139
theorem k1_off1891_inb : ∀ (i : grid1.Coords) (v2402 : BitVec 32) (v2404 : BitVec 32) (k1_hw14 : k1_chk14 i v2402 v2404) (k1_t136 : Fin (k1_t136_loop v2402 v2404).trips) (k1_t139 : Fin (k1_t139_loop v2402 v2404 k1_t136).trips), ∀ a, (k1_off1891 v2402 v2404 k1_t136 k1_t139) a + S1x16.size a ≤ S72x256.size a := fun i v2402 v2404 k1_hw14 k1_t136 k1_t139 => k1_hw14.2.2.2.1.2.2.2.2.2.2.2.2.2.2.2.2.2.2.2.2.2.2.2.2.2.1 k1_t136 k1_t139
theorem k1_off1892_inb : ∀ (i : grid1.Coords) (v2402 : BitVec 32) (v2404 : BitVec 32) (k1_hw14 : k1_chk14 i v2402 v2404) (k1_t136 : Fin (k1_t136_loop v2402 v2404).trips) (k1_t139 : Fin (k1_t139_loop v2402 v2404 k1_t136).trips), ∀ a, (k1_off1892 v2402 v2404 k1_t136 k1_t139) a + S1x16.size a ≤ S72x256.size a := fun i v2402 v2404 k1_hw14 k1_t136 k1_t139 => k1_hw14.2.2.2.1.2.2.2.2.2.2.2.2.2.2.2.2.2.2.2.2.2.2.2.2.2.2.1 k1_t136 k1_t139
theorem k1_off1893_inb : ∀ (i : grid1.Coords) (v2402 : BitVec 32) (v2404 : BitVec 32) (k1_hw14 : k1_chk14 i v2402 v2404) (k1_t136 : Fin (k1_t136_loop v2402 v2404).trips) (k1_t139 : Fin (k1_t139_loop v2402 v2404 k1_t136).trips), ∀ a, (k1_off1893 v2402 v2404 k1_t136 k1_t139) a + S1x16.size a ≤ S72x256.size a := fun i v2402 v2404 k1_hw14 k1_t136 k1_t139 => k1_hw14.2.2.2.1.2.2.2.2.2.2.2.2.2.2.2.2.2.2.2.2.2.2.2.2.2.2.2.1 k1_t136 k1_t139
theorem k1_off1894_inb : ∀ (i : grid1.Coords) (v2402 : BitVec 32) (v2404 : BitVec 32) (k1_hw14 : k1_chk14 i v2402 v2404) (k1_t136 : Fin (k1_t136_loop v2402 v2404).trips) (k1_t139 : Fin (k1_t139_loop v2402 v2404 k1_t136).trips), ∀ a, (k1_off1894 v2402 v2404 k1_t136 k1_t139) a + S1x16.size a ≤ S72x256.size a := fun i v2402 v2404 k1_hw14 k1_t136 k1_t139 => k1_hw14.2.2.2.1.2.2.2.2.2.2.2.2.2.2.2.2.2.2.2.2.2.2.2.2.2.2.2.2.1 k1_t136 k1_t139
theorem k1_off1895_inb : ∀ (i : grid1.Coords) (v2402 : BitVec 32) (v2404 : BitVec 32) (k1_hw14 : k1_chk14 i v2402 v2404) (k1_t136 : Fin (k1_t136_loop v2402 v2404).trips) (k1_t139 : Fin (k1_t139_loop v2402 v2404 k1_t136).trips), ∀ a, (k1_off1895 v2402 v2404 k1_t136 k1_t139) a + S1x16.size a ≤ S72x256.size a := fun i v2402 v2404 k1_hw14 k1_t136 k1_t139 => k1_hw14.2.2.2.1.2.2.2.2.2.2.2.2.2.2.2.2.2.2.2.2.2.2.2.2.2.2.2.2.2.1 k1_t136 k1_t139
theorem k1_off1896_inb : ∀ (i : grid1.Coords) (v2402 : BitVec 32) (v2404 : BitVec 32) (k1_hw14 : k1_chk14 i v2402 v2404) (k1_t136 : Fin (k1_t136_loop v2402 v2404).trips) (k1_t139 : Fin (k1_t139_loop v2402 v2404 k1_t136).trips), ∀ a, (k1_off1896 v2402 v2404 k1_t136 k1_t139) a + S1x16.size a ≤ S72x256.size a := fun i v2402 v2404 k1_hw14 k1_t136 k1_t139 => k1_hw14.2.2.2.1.2.2.2.2.2.2.2.2.2.2.2.2.2.2.2.2.2.2.2.2.2.2.2.2.2.2.1 k1_t136 k1_t139
theorem k1_off1897_inb : ∀ (i : grid1.Coords) (v2402 : BitVec 32) (v2404 : BitVec 32) (k1_hw14 : k1_chk14 i v2402 v2404) (k1_t136 : Fin (k1_t136_loop v2402 v2404).trips) (k1_t139 : Fin (k1_t139_loop v2402 v2404 k1_t136).trips), ∀ a, (k1_off1897 v2402 v2404 k1_t136 k1_t139) a + S1x16.size a ≤ S72x256.size a := fun i v2402 v2404 k1_hw14 k1_t136 k1_t139 => k1_hw14.2.2.2.1.2.2.2.2.2.2.2.2.2.2.2.2.2.2.2.2.2.2.2.2.2.2.2.2.2.2.2.1 k1_t136 k1_t139
theorem k1_off1898_inb : ∀ (i : grid1.Coords) (v2402 : BitVec 32) (v2404 : BitVec 32) (k1_hw14 : k1_chk14 i v2402 v2404) (k1_t136 : Fin (k1_t136_loop v2402 v2404).trips) (k1_t139 : Fin (k1_t139_loop v2402 v2404 k1_t136).trips), ∀ a, (k1_off1898 v2402 v2404 k1_t136 k1_t139) a + S1x16.size a ≤ S72x256.size a := fun i v2402 v2404 k1_hw14 k1_t136 k1_t139 => k1_hw14.2.2.2.1.2.2.2.2.2.2.2.2.2.2.2.2.2.2.2.2.2.2.2.2.2.2.2.2.2.2.2.2.1 k1_t136 k1_t139
theorem k1_off1899_inb : ∀ (i : grid1.Coords) (v2402 : BitVec 32) (v2404 : BitVec 32) (k1_hw14 : k1_chk14 i v2402 v2404) (k1_t136 : Fin (k1_t136_loop v2402 v2404).trips) (k1_t139 : Fin (k1_t139_loop v2402 v2404 k1_t136).trips), ∀ a, (k1_off1899 v2402 v2404 k1_t136 k1_t139) a + S1x16.size a ≤ S72x256.size a := fun i v2402 v2404 k1_hw14 k1_t136 k1_t139 => k1_hw14.2.2.2.1.2.2.2.2.2.2.2.2.2.2.2.2.2.2.2.2.2.2.2.2.2.2.2.2.2.2.2.2.2.1 k1_t136 k1_t139
theorem k1_off1900_inb : ∀ (i : grid1.Coords) (v2402 : BitVec 32) (v2404 : BitVec 32) (k1_hw14 : k1_chk14 i v2402 v2404) (k1_t136 : Fin (k1_t136_loop v2402 v2404).trips) (k1_t139 : Fin (k1_t139_loop v2402 v2404 k1_t136).trips), ∀ a, (k1_off1900 v2402 v2404 k1_t136 k1_t139) a + S1x16.size a ≤ S72x256.size a := fun i v2402 v2404 k1_hw14 k1_t136 k1_t139 => k1_hw14.2.2.2.1.2.2.2.2.2.2.2.2.2.2.2.2.2.2.2.2.2.2.2.2.2.2.2.2.2.2.2.2.2.2.1 k1_t136 k1_t139
theorem k1_off1901_inb : ∀ (i : grid1.Coords) (v2402 : BitVec 32) (v2404 : BitVec 32) (k1_hw14 : k1_chk14 i v2402 v2404) (k1_t136 : Fin (k1_t136_loop v2402 v2404).trips) (k1_t139 : Fin (k1_t139_loop v2402 v2404 k1_t136).trips), ∀ a, (k1_off1901 v2402 v2404 k1_t136 k1_t139) a + S1x16.size a ≤ S72x256.size a := fun i v2402 v2404 k1_hw14 k1_t136 k1_t139 => k1_hw14.2.2.2.1.2.2.2.2.2.2.2.2.2.2.2.2.2.2.2.2.2.2.2.2.2.2.2.2.2.2.2.2.2.2.2 k1_t136 k1_t139
theorem k1_off1902_inb : ∀ (i : grid1.Coords) (v2402 : BitVec 32) (v2404 : BitVec 32) (k1_hw14 : k1_chk14 i v2402 v2404) (k1_t136 : Fin (k1_t136_loop v2402 v2404).trips) (k1_t139 : Fin (k1_t139_loop v2402 v2404 k1_t136).trips), ∀ a, (k1_off1902 v2402 v2404 k1_t136 k1_t139) a + S1x16.size a ≤ S72x256.size a := fun i v2402 v2404 k1_hw14 k1_t136 k1_t139 => k1_hw14.2.2.2.2.1 k1_t136 k1_t139
theorem k1_off1903_inb : ∀ (i : grid1.Coords) (v2402 : BitVec 32) (v2404 : BitVec 32) (k1_hw14 : k1_chk14 i v2402 v2404) (k1_t136 : Fin (k1_t136_loop v2402 v2404).trips) (k1_t139 : Fin (k1_t139_loop v2402 v2404 k1_t136).trips), ∀ a, (k1_off1903 v2402 v2404 k1_t136 k1_t139) a + S1x16.size a ≤ S72x256.size a := fun i v2402 v2404 k1_hw14 k1_t136 k1_t139 => k1_hw14.2.2.2.2.2.1 k1_t136 k1_t139
theorem k1_t140_ok : ∀ (i : grid1.Coords) (v2402 : BitVec 32) (v2404 : BitVec 32) (k1_hw14 : k1_chk14 i v2402 v2404) (k1_t136 : Fin (k1_t136_loop v2402 v2404).trips), (k1_t140_loop v2402 v2404 k1_t136).OK := fun i v2402 v2404 k1_hw14 k1_t136 => k1_hw14.2.2.2.2.2.2.1 k1_t136
theorem k1_off1904_inb : ∀ (i : grid1.Coords) (v2402 : BitVec 32) (v2404 : BitVec 32) (k1_hw14 : k1_chk14 i v2402 v2404) (k1_t136 : Fin (k1_t136_loop v2402 v2404).trips) (k1_t140 : Fin (k1_t140_loop v2402 v2404 k1_t136).trips), ∀ a, (k1_off1904 v2402 v2404 k1_t136 k1_t140) a + S1x16.size a ≤ S72x256.size a := fun i v2402 v2404 k1_hw14 k1_t136 k1_t140 => k1_hw14.2.2.2.2.2.2.2.1 k1_t136 k1_t140
theorem k1_off1905_inb : ∀ (i : grid1.Coords) (v2402 : BitVec 32) (v2404 : BitVec 32) (k1_hw14 : k1_chk14 i v2402 v2404) (k1_t136 : Fin (k1_t136_loop v2402 v2404).trips) (k1_t140 : Fin (k1_t140_loop v2402 v2404 k1_t136).trips), ∀ a, (k1_off1905 v2402 v2404 k1_t136 k1_t140) a + S1x16.size a ≤ S72x256.size a := fun i v2402 v2404 k1_hw14 k1_t136 k1_t140 => k1_hw14.2.2.2.2.2.2.2.2.1 k1_t136 k1_t140
theorem k1_off1906_inb : ∀ (i : grid1.Coords) (v2402 : BitVec 32) (v2404 : BitVec 32) (k1_hw14 : k1_chk14 i v2402 v2404) (k1_t136 : Fin (k1_t136_loop v2402 v2404).trips) (k1_t140 : Fin (k1_t140_loop v2402 v2404 k1_t136).trips), ∀ a, (k1_off1906 v2402 v2404 k1_t136 k1_t140) a + S1x16.size a ≤ S72x256.size a := fun i v2402 v2404 k1_hw14 k1_t136 k1_t140 => k1_hw14.2.2.2.2.2.2.2.2.2.1 k1_t136 k1_t140
theorem k1_off1907_inb : ∀ (i : grid1.Coords) (v2402 : BitVec 32) (v2404 : BitVec 32) (k1_hw14 : k1_chk14 i v2402 v2404) (k1_t136 : Fin (k1_t136_loop v2402 v2404).trips) (k1_t140 : Fin (k1_t140_loop v2402 v2404 k1_t136).trips), ∀ a, (k1_off1907 v2402 v2404 k1_t136 k1_t140) a + S1x16.size a ≤ S72x256.size a := fun i v2402 v2404 k1_hw14 k1_t136 k1_t140 => k1_hw14.2.2.2.2.2.2.2.2.2.2.1 k1_t136 k1_t140
theorem k1_off1908_inb : ∀ (i : grid1.Coords) (v2402 : BitVec 32) (v2404 : BitVec 32) (k1_hw14 : k1_chk14 i v2402 v2404) (k1_t136 : Fin (k1_t136_loop v2402 v2404).trips) (k1_t140 : Fin (k1_t140_loop v2402 v2404 k1_t136).trips), ∀ a, (k1_off1908 v2402 v2404 k1_t136 k1_t140) a + S1x16.size a ≤ S72x256.size a := fun i v2402 v2404 k1_hw14 k1_t136 k1_t140 => k1_hw14.2.2.2.2.2.2.2.2.2.2.2.1 k1_t136 k1_t140
theorem k1_off1909_inb : ∀ (i : grid1.Coords) (v2402 : BitVec 32) (v2404 : BitVec 32) (k1_hw14 : k1_chk14 i v2402 v2404) (k1_t136 : Fin (k1_t136_loop v2402 v2404).trips) (k1_t140 : Fin (k1_t140_loop v2402 v2404 k1_t136).trips), ∀ a, (k1_off1909 v2402 v2404 k1_t136 k1_t140) a + S1x16.size a ≤ S72x256.size a := fun i v2402 v2404 k1_hw14 k1_t136 k1_t140 => k1_hw14.2.2.2.2.2.2.2.2.2.2.2.2.1 k1_t136 k1_t140
theorem k1_off1910_inb : ∀ (i : grid1.Coords) (v2402 : BitVec 32) (v2404 : BitVec 32) (k1_hw14 : k1_chk14 i v2402 v2404) (k1_t136 : Fin (k1_t136_loop v2402 v2404).trips) (k1_t140 : Fin (k1_t140_loop v2402 v2404 k1_t136).trips), ∀ a, (k1_off1910 v2402 v2404 k1_t136 k1_t140) a + S1x16.size a ≤ S72x256.size a := fun i v2402 v2404 k1_hw14 k1_t136 k1_t140 => k1_hw14.2.2.2.2.2.2.2.2.2.2.2.2.2.1 k1_t136 k1_t140
theorem k1_off1911_inb : ∀ (i : grid1.Coords) (v2402 : BitVec 32) (v2404 : BitVec 32) (k1_hw14 : k1_chk14 i v2402 v2404) (k1_t136 : Fin (k1_t136_loop v2402 v2404).trips) (k1_t140 : Fin (k1_t140_loop v2402 v2404 k1_t136).trips), ∀ a, (k1_off1911 v2402 v2404 k1_t136 k1_t140) a + S1x16.size a ≤ S72x256.size a := fun i v2402 v2404 k1_hw14 k1_t136 k1_t140 => k1_hw14.2.2.2.2.2.2.2.2.2.2.2.2.2.2.1 k1_t136 k1_t140
theorem k1_off1912_inb : ∀ (i : grid1.Coords) (v2402 : BitVec 32) (v2404 : BitVec 32) (k1_hw14 : k1_chk14 i v2402 v2404) (k1_t136 : Fin (k1_t136_loop v2402 v2404).trips) (k1_t140 : Fin (k1_t140_loop v2402 v2404 k1_t136).trips), ∀ a, (k1_off1912 v2402 v2404 k1_t136 k1_t140) a + S1x16.size a ≤ S72x256.size a := fun i v2402 v2404 k1_hw14 k1_t136 k1_t140 => k1_hw14.2.2.2.2.2.2.2.2.2.2.2.2.2.2.2.1 k1_t136 k1_t140
theorem k1_off1913_inb : ∀ (i : grid1.Coords) (v2402 : BitVec 32) (v2404 : BitVec 32) (k1_hw14 : k1_chk14 i v2402 v2404) (k1_t136 : Fin (k1_t136_loop v2402 v2404).trips) (k1_t140 : Fin (k1_t140_loop v2402 v2404 k1_t136).trips), ∀ a, (k1_off1913 v2402 v2404 k1_t136 k1_t140) a + S1x16.size a ≤ S72x256.size a := fun i v2402 v2404 k1_hw14 k1_t136 k1_t140 => k1_hw14.2.2.2.2.2.2.2.2.2.2.2.2.2.2.2.2.1 k1_t136 k1_t140
theorem k1_off1914_inb : ∀ (i : grid1.Coords) (v2402 : BitVec 32) (v2404 : BitVec 32) (k1_hw14 : k1_chk14 i v2402 v2404) (k1_t136 : Fin (k1_t136_loop v2402 v2404).trips) (k1_t140 : Fin (k1_t140_loop v2402 v2404 k1_t136).trips), ∀ a, (k1_off1914 v2402 v2404 k1_t136 k1_t140) a + S1x16.size a ≤ S72x256.size a := fun i v2402 v2404 k1_hw14 k1_t136 k1_t140 => k1_hw14.2.2.2.2.2.2.2.2.2.2.2.2.2.2.2.2.2.1 k1_t136 k1_t140
theorem k1_off1915_inb : ∀ (i : grid1.Coords) (v2402 : BitVec 32) (v2404 : BitVec 32) (k1_hw14 : k1_chk14 i v2402 v2404) (k1_t136 : Fin (k1_t136_loop v2402 v2404).trips) (k1_t140 : Fin (k1_t140_loop v2402 v2404 k1_t136).trips), ∀ a, (k1_off1915 v2402 v2404 k1_t136 k1_t140) a + S1x16.size a ≤ S72x256.size a := fun i v2402 v2404 k1_hw14 k1_t136 k1_t140 => k1_hw14.2.2.2.2.2.2.2.2.2.2.2.2.2.2.2.2.2.2.1 k1_t136 k1_t140
theorem k1_off1916_inb : ∀ (i : grid1.Coords) (v2402 : BitVec 32) (v2404 : BitVec 32) (k1_hw14 : k1_chk14 i v2402 v2404) (k1_t136 : Fin (k1_t136_loop v2402 v2404).trips) (k1_t140 : Fin (k1_t140_loop v2402 v2404 k1_t136).trips), ∀ a, (k1_off1916 v2402 v2404 k1_t136 k1_t140) a + S1x16.size a ≤ S72x256.size a := fun i v2402 v2404 k1_hw14 k1_t136 k1_t140 => k1_hw14.2.2.2.2.2.2.2.2.2.2.2.2.2.2.2.2.2.2.2.1 k1_t136 k1_t140
theorem k1_off1917_inb : ∀ (i : grid1.Coords) (v2402 : BitVec 32) (v2404 : BitVec 32) (k1_hw14 : k1_chk14 i v2402 v2404) (k1_t136 : Fin (k1_t136_loop v2402 v2404).trips) (k1_t140 : Fin (k1_t140_loop v2402 v2404 k1_t136).trips), ∀ a, (k1_off1917 v2402 v2404 k1_t136 k1_t140) a + S1x16.size a ≤ S72x256.size a := fun i v2402 v2404 k1_hw14 k1_t136 k1_t140 => k1_hw14.2.2.2.2.2.2.2.2.2.2.2.2.2.2.2.2.2.2.2.2.1 k1_t136 k1_t140
theorem k1_off1918_inb : ∀ (i : grid1.Coords) (v2402 : BitVec 32) (v2404 : BitVec 32) (k1_hw14 : k1_chk14 i v2402 v2404) (k1_t136 : Fin (k1_t136_loop v2402 v2404).trips) (k1_t140 : Fin (k1_t140_loop v2402 v2404 k1_t136).trips), ∀ a, (k1_off1918 v2402 v2404 k1_t136 k1_t140) a + S1x16.size a ≤ S72x256.size a := fun i v2402 v2404 k1_hw14 k1_t136 k1_t140 => k1_hw14.2.2.2.2.2.2.2.2.2.2.2.2.2.2.2.2.2.2.2.2.2.1 k1_t136 k1_t140
theorem k1_off1919_inb : ∀ (i : grid1.Coords) (v2402 : BitVec 32) (v2404 : BitVec 32) (k1_hw14 : k1_chk14 i v2402 v2404) (k1_t136 : Fin (k1_t136_loop v2402 v2404).trips) (k1_t140 : Fin (k1_t140_loop v2402 v2404 k1_t136).trips), ∀ a, (k1_off1919 v2402 v2404 k1_t136 k1_t140) a + S1x16.size a ≤ S72x256.size a := fun i v2402 v2404 k1_hw14 k1_t136 k1_t140 => k1_hw14.2.2.2.2.2.2.2.2.2.2.2.2.2.2.2.2.2.2.2.2.2.2 k1_t136 k1_t140

def k1_off1920 (i : grid1.Coords) (v2584 : BitVec 32) : Fin 2 → Nat :=
  let c0_i32_1408 : BitVec 32 := 0#32
  let v2949 : BitVec 32 := Scalar.addi v2584 c0_i32_1408
  let c0_i32_1410 : BitVec 32 := 0#32
  let v2951 : BitVec 1 := Scalar.cmpi .sgt v2949 c0_i32_1410
  let v2952 : BitVec 32 := Scalar.extui v2951
  let c0_i32_1411 : BitVec 32 := 0#32
  let v2953 : BitVec 1 := Scalar.cmpi .slt v2949 c0_i32_1411
  let v2954 : BitVec 32 := Scalar.extui v2953
  let v2955 : BitVec 32 := Scalar.subi v2952 v2954
  let c8_i32_1409 : BitVec 32 := 8#32
  let c0_i32_1412 : BitVec 32 := 0#32
  let v2956 : BitVec 1 := Scalar.cmpi .sgt c8_i32_1409 c0_i32_1412
  let v2957 : BitVec 32 := Scalar.extui v2956
  let c0_i32_1413 : BitVec 32 := 0#32
  let v2958 : BitVec 1 := Scalar.cmpi .slt c8_i32_1409 c0_i32_1413
  let v2959 : BitVec 32 := Scalar.extui v2958
  let v2960 : BitVec 32 := Scalar.subi v2957 v2959
  let v2961 : BitVec 1 := Scalar.cmpi .ne v2955 v2960
  let v2962 : BitVec 32 := Scalar.remsi v2949 c8_i32_1409
  let c0_i32_1414 : BitVec 32 := 0#32
  let v2963 : BitVec 1 := Scalar.cmpi .ne v2962 c0_i32_1414
  let v2964 : BitVec 1 := Scalar.andi v2961 v2963
  let v2950 : BitVec 32 := Scalar.divsi v2949 c8_i32_1409
  let c1_i32_1415 : BitVec 32 := 1#32
  let v2965 : BitVec 32 := Scalar.subi v2950 c1_i32_1415
  let v2966 : BitVec 32 := Scalar.select v2964 v2965 v2950
  let c8_i32_1416 : BitVec 32 := 8#32
  let v2967 : BitVec 32 := Scalar.muli v2966 c8_i32_1416
  let c99928_i32 : BitVec 32 := 99928#32
  let v2968 : BitVec 32 := Scalar.minsi v2967 c99928_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v2968.toNat, v29.toNat]
def k1_cond127 (v2584 : BitVec 32) (v2586 : BitVec 32) : BitVec 1 :=
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c0_i32_1241 : BitVec 32 := 0#32
  let v2609 : BitVec 1 := Scalar.cmpi .sgt v2608 c0_i32_1241
  let v2610 : BitVec 32 := Scalar.extui v2609
  let c0_i32_1242 : BitVec 32 := 0#32
  let v2611 : BitVec 1 := Scalar.cmpi .ne v2610 c0_i32_1242
  v2611

@[reducible] def k1_t141_loop (v2584 : BitVec 32) (v2586 : BitVec 32) : Scf.Loop 32 :=
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1253 : BitVec 32 := 1#32
  ⟨c0_i32_1251, v2634, c1_i32_1253⟩
def k1_off1921 (i : grid1.Coords) (v2584 : BitVec 32) (v2586 : BitVec 32) (k1_t141 : Fin (k1_t141_loop v2584 v2586).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1446 : BitVec 32 := 64#32
  let v3026 : BitVec 32 := Scalar.muli v2949 c64_i32_1446
  let v3027 : BitVec 32 := Scalar.addi v2584 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond128 (v2584 : BitVec 32) (v2586 : BitVec 32) (k1_t141 : Fin (k1_t141_loop v2584 v2586).trips) : BitVec 1 :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let v2950 : BitVec 1 := Scalar.cmpi .slt v2949 v2608
  let v2951 : BitVec 32 := Scalar.extui v2950
  let c0_i32_1409 : BitVec 32 := 0#32
  let v2952 : BitVec 1 := Scalar.cmpi .ne v2951 c0_i32_1409
  v2952

def k1_off1922 (i : grid1.Coords) (v2584 : BitVec 32) (v2586 : BitVec 32) (k1_t141 : Fin (k1_t141_loop v2584 v2586).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v2584 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond129 (v2584 : BitVec 32) (v2586 : BitVec 32) (k1_t141 : Fin (k1_t141_loop v2584 v2586).trips) : BitVec 1 :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c1_i32_1456 : BitVec 32 := 1#32
  let v3049 : BitVec 32 := Scalar.addi v2949 c1_i32_1456
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let v3050 : BitVec 1 := Scalar.cmpi .slt v3049 v2608
  let v3051 : BitVec 32 := Scalar.extui v3050
  let c0_i32_1457 : BitVec 32 := 0#32
  let v3052 : BitVec 1 := Scalar.cmpi .ne v3051 c0_i32_1457
  v3052

@[reducible] def k1_t142_loop (v2584 : BitVec 32) (v2586 : BitVec 32) (k1_t141 : Fin (k1_t141_loop v2584 v2586).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off1923 (v2584 : BitVec 32) (v2586 : BitVec 32) (k1_t141 : Fin (k1_t141_loop v2584 v2586).trips) (k1_t142 : Fin (k1_t142_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t142
  let v3026 : BitVec 32 := Scalar.addi v2976 arg46
  let v3027 : Index := Scalar.indexCast v3026
  let c0_1446 : Index := 0#32
  ![v3027.toNat, 0]
def k1_off1924 (v2584 : BitVec 32) (v2586 : BitVec 32) (k1_t141 : Fin (k1_t141_loop v2584 v2586).trips) (k1_t142 : Fin (k1_t142_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t142
  let v3026 : BitVec 32 := Scalar.addi v2976 arg46
  let v3032 : Index := Scalar.indexCast v3026
  let c16_1447 : Index := 16#32
  ![v3032.toNat, 16]
def k1_off1925 (v2584 : BitVec 32) (v2586 : BitVec 32) (k1_t141 : Fin (k1_t141_loop v2584 v2586).trips) (k1_t142 : Fin (k1_t142_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t142
  let v3026 : BitVec 32 := Scalar.addi v2976 arg46
  let v3037 : Index := Scalar.indexCast v3026
  let c32_1448 : Index := 32#32
  ![v3037.toNat, 32]
def k1_off1926 (v2584 : BitVec 32) (v2586 : BitVec 32) (k1_t141 : Fin (k1_t141_loop v2584 v2586).trips) (k1_t142 : Fin (k1_t142_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t142
  let v3026 : BitVec 32 := Scalar.addi v2976 arg46
  let v3042 : Index := Scalar.indexCast v3026
  let c48_1449 : Index := 48#32
  ![v3042.toNat, 48]
def k1_off1927 (v2584 : BitVec 32) (v2586 : BitVec 32) (k1_t141 : Fin (k1_t141_loop v2584 v2586).trips) (k1_t142 : Fin (k1_t142_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t142
  let v3026 : BitVec 32 := Scalar.addi v2976 arg46
  let v3047 : Index := Scalar.indexCast v3026
  let c64_1450 : Index := 64#32
  ![v3047.toNat, 64]
def k1_off1928 (v2584 : BitVec 32) (v2586 : BitVec 32) (k1_t141 : Fin (k1_t141_loop v2584 v2586).trips) (k1_t142 : Fin (k1_t142_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t142
  let v3026 : BitVec 32 := Scalar.addi v2976 arg46
  let v3052 : Index := Scalar.indexCast v3026
  let c80_1451 : Index := 80#32
  ![v3052.toNat, 80]
def k1_off1929 (v2584 : BitVec 32) (v2586 : BitVec 32) (k1_t141 : Fin (k1_t141_loop v2584 v2586).trips) (k1_t142 : Fin (k1_t142_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t142
  let v3026 : BitVec 32 := Scalar.addi v2976 arg46
  let v3057 : Index := Scalar.indexCast v3026
  let c96_1452 : Index := 96#32
  ![v3057.toNat, 96]
def k1_off1930 (v2584 : BitVec 32) (v2586 : BitVec 32) (k1_t141 : Fin (k1_t141_loop v2584 v2586).trips) (k1_t142 : Fin (k1_t142_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t142
  let v3026 : BitVec 32 := Scalar.addi v2976 arg46
  let v3062 : Index := Scalar.indexCast v3026
  let c112_1453 : Index := 112#32
  ![v3062.toNat, 112]
def k1_off1931 (v2584 : BitVec 32) (v2586 : BitVec 32) (k1_t141 : Fin (k1_t141_loop v2584 v2586).trips) (k1_t142 : Fin (k1_t142_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t142
  let v3026 : BitVec 32 := Scalar.addi v2976 arg46
  let v3067 : Index := Scalar.indexCast v3026
  let c128_1454 : Index := 128#32
  ![v3067.toNat, 128]
def k1_off1932 (v2584 : BitVec 32) (v2586 : BitVec 32) (k1_t141 : Fin (k1_t141_loop v2584 v2586).trips) (k1_t142 : Fin (k1_t142_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t142
  let v3026 : BitVec 32 := Scalar.addi v2976 arg46
  let v3072 : Index := Scalar.indexCast v3026
  let c144_1455 : Index := 144#32
  ![v3072.toNat, 144]
def k1_off1933 (v2584 : BitVec 32) (v2586 : BitVec 32) (k1_t141 : Fin (k1_t141_loop v2584 v2586).trips) (k1_t142 : Fin (k1_t142_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t142
  let v3026 : BitVec 32 := Scalar.addi v2976 arg46
  let v3077 : Index := Scalar.indexCast v3026
  let c160_1456 : Index := 160#32
  ![v3077.toNat, 160]
def k1_off1934 (v2584 : BitVec 32) (v2586 : BitVec 32) (k1_t141 : Fin (k1_t141_loop v2584 v2586).trips) (k1_t142 : Fin (k1_t142_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t142
  let v3026 : BitVec 32 := Scalar.addi v2976 arg46
  let v3082 : Index := Scalar.indexCast v3026
  let c176_1457 : Index := 176#32
  ![v3082.toNat, 176]
def k1_off1935 (v2584 : BitVec 32) (v2586 : BitVec 32) (k1_t141 : Fin (k1_t141_loop v2584 v2586).trips) (k1_t142 : Fin (k1_t142_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t142
  let v3026 : BitVec 32 := Scalar.addi v2976 arg46
  let v3087 : Index := Scalar.indexCast v3026
  let c192_1458 : Index := 192#32
  ![v3087.toNat, 192]
def k1_off1936 (v2584 : BitVec 32) (v2586 : BitVec 32) (k1_t141 : Fin (k1_t141_loop v2584 v2586).trips) (k1_t142 : Fin (k1_t142_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t142
  let v3026 : BitVec 32 := Scalar.addi v2976 arg46
  let v3092 : Index := Scalar.indexCast v3026
  let c208_1459 : Index := 208#32
  ![v3092.toNat, 208]
def k1_off1937 (v2584 : BitVec 32) (v2586 : BitVec 32) (k1_t141 : Fin (k1_t141_loop v2584 v2586).trips) (k1_t142 : Fin (k1_t142_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t142
  let v3026 : BitVec 32 := Scalar.addi v2976 arg46
  let v3097 : Index := Scalar.indexCast v3026
  let c224_1460 : Index := 224#32
  ![v3097.toNat, 224]
def k1_off1938 (v2584 : BitVec 32) (v2586 : BitVec 32) (k1_t141 : Fin (k1_t141_loop v2584 v2586).trips) (k1_t142 : Fin (k1_t142_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t142
  let v3026 : BitVec 32 := Scalar.addi v2976 arg46
  let v3102 : Index := Scalar.indexCast v3026
  let c240_1461 : Index := 240#32
  ![v3102.toNat, 240]
@[reducible] def k1_t143_loop (v2584 : BitVec 32) (v2586 : BitVec 32) (k1_t141 : Fin (k1_t141_loop v2584 v2586).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off1939 (v2584 : BitVec 32) (v2586 : BitVec 32) (k1_t141 : Fin (k1_t141_loop v2584 v2586).trips) (k1_t143 : Fin (k1_t143_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t143
  let v3026 : BitVec 32 := Scalar.addi v2976 arg46
  let v3027 : Index := Scalar.indexCast v3026
  let c0_1446 : Index := 0#32
  ![v3027.toNat, 0]
def k1_off1940 (v2584 : BitVec 32) (v2586 : BitVec 32) (k1_t141 : Fin (k1_t141_loop v2584 v2586).trips) (k1_t143 : Fin (k1_t143_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t143
  let v3026 : BitVec 32 := Scalar.addi v2976 arg46
  let v3032 : Index := Scalar.indexCast v3026
  let c16_1447 : Index := 16#32
  ![v3032.toNat, 16]
def k1_off1941 (v2584 : BitVec 32) (v2586 : BitVec 32) (k1_t141 : Fin (k1_t141_loop v2584 v2586).trips) (k1_t143 : Fin (k1_t143_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t143
  let v3026 : BitVec 32 := Scalar.addi v2976 arg46
  let v3037 : Index := Scalar.indexCast v3026
  let c32_1448 : Index := 32#32
  ![v3037.toNat, 32]
def k1_off1942 (v2584 : BitVec 32) (v2586 : BitVec 32) (k1_t141 : Fin (k1_t141_loop v2584 v2586).trips) (k1_t143 : Fin (k1_t143_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t143
  let v3026 : BitVec 32 := Scalar.addi v2976 arg46
  let v3042 : Index := Scalar.indexCast v3026
  let c48_1449 : Index := 48#32
  ![v3042.toNat, 48]
def k1_off1943 (v2584 : BitVec 32) (v2586 : BitVec 32) (k1_t141 : Fin (k1_t141_loop v2584 v2586).trips) (k1_t143 : Fin (k1_t143_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t143
  let v3026 : BitVec 32 := Scalar.addi v2976 arg46
  let v3047 : Index := Scalar.indexCast v3026
  let c64_1450 : Index := 64#32
  ![v3047.toNat, 64]
def k1_off1944 (v2584 : BitVec 32) (v2586 : BitVec 32) (k1_t141 : Fin (k1_t141_loop v2584 v2586).trips) (k1_t143 : Fin (k1_t143_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t143
  let v3026 : BitVec 32 := Scalar.addi v2976 arg46
  let v3052 : Index := Scalar.indexCast v3026
  let c80_1451 : Index := 80#32
  ![v3052.toNat, 80]
def k1_off1945 (v2584 : BitVec 32) (v2586 : BitVec 32) (k1_t141 : Fin (k1_t141_loop v2584 v2586).trips) (k1_t143 : Fin (k1_t143_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t143
  let v3026 : BitVec 32 := Scalar.addi v2976 arg46
  let v3057 : Index := Scalar.indexCast v3026
  let c96_1452 : Index := 96#32
  ![v3057.toNat, 96]
def k1_off1946 (v2584 : BitVec 32) (v2586 : BitVec 32) (k1_t141 : Fin (k1_t141_loop v2584 v2586).trips) (k1_t143 : Fin (k1_t143_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t143
  let v3026 : BitVec 32 := Scalar.addi v2976 arg46
  let v3062 : Index := Scalar.indexCast v3026
  let c112_1453 : Index := 112#32
  ![v3062.toNat, 112]
def k1_off1947 (v2584 : BitVec 32) (v2586 : BitVec 32) (k1_t141 : Fin (k1_t141_loop v2584 v2586).trips) (k1_t143 : Fin (k1_t143_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t143
  let v3026 : BitVec 32 := Scalar.addi v2976 arg46
  let v3067 : Index := Scalar.indexCast v3026
  let c128_1454 : Index := 128#32
  ![v3067.toNat, 128]
def k1_off1948 (v2584 : BitVec 32) (v2586 : BitVec 32) (k1_t141 : Fin (k1_t141_loop v2584 v2586).trips) (k1_t143 : Fin (k1_t143_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t143
  let v3026 : BitVec 32 := Scalar.addi v2976 arg46
  let v3072 : Index := Scalar.indexCast v3026
  let c144_1455 : Index := 144#32
  ![v3072.toNat, 144]
def k1_off1949 (v2584 : BitVec 32) (v2586 : BitVec 32) (k1_t141 : Fin (k1_t141_loop v2584 v2586).trips) (k1_t143 : Fin (k1_t143_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t143
  let v3026 : BitVec 32 := Scalar.addi v2976 arg46
  let v3077 : Index := Scalar.indexCast v3026
  let c160_1456 : Index := 160#32
  ![v3077.toNat, 160]
def k1_off1950 (v2584 : BitVec 32) (v2586 : BitVec 32) (k1_t141 : Fin (k1_t141_loop v2584 v2586).trips) (k1_t143 : Fin (k1_t143_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t143
  let v3026 : BitVec 32 := Scalar.addi v2976 arg46
  let v3082 : Index := Scalar.indexCast v3026
  let c176_1457 : Index := 176#32
  ![v3082.toNat, 176]
def k1_off1951 (v2584 : BitVec 32) (v2586 : BitVec 32) (k1_t141 : Fin (k1_t141_loop v2584 v2586).trips) (k1_t143 : Fin (k1_t143_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t143
  let v3026 : BitVec 32 := Scalar.addi v2976 arg46
  let v3087 : Index := Scalar.indexCast v3026
  let c192_1458 : Index := 192#32
  ![v3087.toNat, 192]
def k1_off1952 (v2584 : BitVec 32) (v2586 : BitVec 32) (k1_t141 : Fin (k1_t141_loop v2584 v2586).trips) (k1_t143 : Fin (k1_t143_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t143
  let v3026 : BitVec 32 := Scalar.addi v2976 arg46
  let v3092 : Index := Scalar.indexCast v3026
  let c208_1459 : Index := 208#32
  ![v3092.toNat, 208]
def k1_off1953 (v2584 : BitVec 32) (v2586 : BitVec 32) (k1_t141 : Fin (k1_t141_loop v2584 v2586).trips) (k1_t143 : Fin (k1_t143_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t143
  let v3026 : BitVec 32 := Scalar.addi v2976 arg46
  let v3097 : Index := Scalar.indexCast v3026
  let c224_1460 : Index := 224#32
  ![v3097.toNat, 224]
def k1_off1954 (v2584 : BitVec 32) (v2586 : BitVec 32) (k1_t141 : Fin (k1_t141_loop v2584 v2586).trips) (k1_t143 : Fin (k1_t143_loop v2584 v2586 k1_t141).trips) : Fin 2 → Nat :=
  let c2_i32_1408 : BitVec 32 := 2#32
  let c0_i32_1251 : BitVec 32 := 0#32
  let c1_i32_1253 : BitVec 32 := 1#32
  let arg13 : BitVec 32 := Scf.iv c0_i32_1251 c1_i32_1253 k1_t141
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t143
  let v3026 : BitVec 32 := Scalar.addi v2976 arg46
  let v3102 : Index := Scalar.indexCast v3026
  let c240_1461 : Index := 240#32
  ![v3102.toNat, 240]
def k1_off1955 (i : grid1.Coords) (v2584 : BitVec 32) (v2586 : BitVec 32) (k1_t141 : Fin (k1_t141_loop v2584 v2586).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v2584 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond130 (v2584 : BitVec 32) (v2586 : BitVec 32) (k1_t141 : Fin (k1_t141_loop v2584 v2586).trips) : BitVec 1 :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let v2989 : BitVec 1 := Scalar.cmpi .slt v2988 v2608
  let v2990 : BitVec 32 := Scalar.extui v2989
  let c0_i32_1428 : BitVec 32 := 0#32
  let v2991 : BitVec 1 := Scalar.cmpi .ne v2990 c0_i32_1428
  v2991

def k1_off1956 (i : grid1.Coords) (v2584 : BitVec 32) (v2586 : BitVec 32) (k1_t141 : Fin (k1_t141_loop v2584 v2586).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v2584 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond131 (v2584 : BitVec 32) (v2586 : BitVec 32) (k1_t141 : Fin (k1_t141_loop v2584 v2586).trips) : BitVec 1 :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let v3050 : BitVec 1 := Scalar.cmpi .slt v3049 v2608
  let v3051 : BitVec 32 := Scalar.extui v3050
  let c0_i32_1457 : BitVec 32 := 0#32
  let v3052 : BitVec 1 := Scalar.cmpi .ne v3051 c0_i32_1457
  v3052

@[reducible] def k1_t144_loop (v2584 : BitVec 32) (v2586 : BitVec 32) (k1_t141 : Fin (k1_t141_loop v2584 v2586).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off1957 (v2584 : BitVec 32) (v2586 : BitVec 32) (k1_t141 : Fin (k1_t141_loop v2584 v2586).trips) (k1_t144 : Fin (k1_t144_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t144
  let v3026 : BitVec 32 := Scalar.addi v3015 arg46
  let v3027 : Index := Scalar.indexCast v3026
  let c0_1446 : Index := 0#32
  ![v3027.toNat, 0]
def k1_off1958 (v2584 : BitVec 32) (v2586 : BitVec 32) (k1_t141 : Fin (k1_t141_loop v2584 v2586).trips) (k1_t144 : Fin (k1_t144_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t144
  let v3026 : BitVec 32 := Scalar.addi v3015 arg46
  let v3032 : Index := Scalar.indexCast v3026
  let c16_1447 : Index := 16#32
  ![v3032.toNat, 16]
def k1_off1959 (v2584 : BitVec 32) (v2586 : BitVec 32) (k1_t141 : Fin (k1_t141_loop v2584 v2586).trips) (k1_t144 : Fin (k1_t144_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t144
  let v3026 : BitVec 32 := Scalar.addi v3015 arg46
  let v3037 : Index := Scalar.indexCast v3026
  let c32_1448 : Index := 32#32
  ![v3037.toNat, 32]
def k1_off1960 (v2584 : BitVec 32) (v2586 : BitVec 32) (k1_t141 : Fin (k1_t141_loop v2584 v2586).trips) (k1_t144 : Fin (k1_t144_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t144
  let v3026 : BitVec 32 := Scalar.addi v3015 arg46
  let v3042 : Index := Scalar.indexCast v3026
  let c48_1449 : Index := 48#32
  ![v3042.toNat, 48]
def k1_off1961 (v2584 : BitVec 32) (v2586 : BitVec 32) (k1_t141 : Fin (k1_t141_loop v2584 v2586).trips) (k1_t144 : Fin (k1_t144_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t144
  let v3026 : BitVec 32 := Scalar.addi v3015 arg46
  let v3047 : Index := Scalar.indexCast v3026
  let c64_1450 : Index := 64#32
  ![v3047.toNat, 64]
def k1_off1962 (v2584 : BitVec 32) (v2586 : BitVec 32) (k1_t141 : Fin (k1_t141_loop v2584 v2586).trips) (k1_t144 : Fin (k1_t144_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t144
  let v3026 : BitVec 32 := Scalar.addi v3015 arg46
  let v3052 : Index := Scalar.indexCast v3026
  let c80_1451 : Index := 80#32
  ![v3052.toNat, 80]
def k1_off1963 (v2584 : BitVec 32) (v2586 : BitVec 32) (k1_t141 : Fin (k1_t141_loop v2584 v2586).trips) (k1_t144 : Fin (k1_t144_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t144
  let v3026 : BitVec 32 := Scalar.addi v3015 arg46
  let v3057 : Index := Scalar.indexCast v3026
  let c96_1452 : Index := 96#32
  ![v3057.toNat, 96]
def k1_off1964 (v2584 : BitVec 32) (v2586 : BitVec 32) (k1_t141 : Fin (k1_t141_loop v2584 v2586).trips) (k1_t144 : Fin (k1_t144_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t144
  let v3026 : BitVec 32 := Scalar.addi v3015 arg46
  let v3062 : Index := Scalar.indexCast v3026
  let c112_1453 : Index := 112#32
  ![v3062.toNat, 112]
def k1_off1965 (v2584 : BitVec 32) (v2586 : BitVec 32) (k1_t141 : Fin (k1_t141_loop v2584 v2586).trips) (k1_t144 : Fin (k1_t144_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t144
  let v3026 : BitVec 32 := Scalar.addi v3015 arg46
  let v3067 : Index := Scalar.indexCast v3026
  let c128_1454 : Index := 128#32
  ![v3067.toNat, 128]
def k1_off1966 (v2584 : BitVec 32) (v2586 : BitVec 32) (k1_t141 : Fin (k1_t141_loop v2584 v2586).trips) (k1_t144 : Fin (k1_t144_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t144
  let v3026 : BitVec 32 := Scalar.addi v3015 arg46
  let v3072 : Index := Scalar.indexCast v3026
  let c144_1455 : Index := 144#32
  ![v3072.toNat, 144]
def k1_off1967 (v2584 : BitVec 32) (v2586 : BitVec 32) (k1_t141 : Fin (k1_t141_loop v2584 v2586).trips) (k1_t144 : Fin (k1_t144_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t144
  let v3026 : BitVec 32 := Scalar.addi v3015 arg46
  let v3077 : Index := Scalar.indexCast v3026
  let c160_1456 : Index := 160#32
  ![v3077.toNat, 160]
def k1_off1968 (v2584 : BitVec 32) (v2586 : BitVec 32) (k1_t141 : Fin (k1_t141_loop v2584 v2586).trips) (k1_t144 : Fin (k1_t144_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t144
  let v3026 : BitVec 32 := Scalar.addi v3015 arg46
  let v3082 : Index := Scalar.indexCast v3026
  let c176_1457 : Index := 176#32
  ![v3082.toNat, 176]
def k1_off1969 (v2584 : BitVec 32) (v2586 : BitVec 32) (k1_t141 : Fin (k1_t141_loop v2584 v2586).trips) (k1_t144 : Fin (k1_t144_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t144
  let v3026 : BitVec 32 := Scalar.addi v3015 arg46
  let v3087 : Index := Scalar.indexCast v3026
  let c192_1458 : Index := 192#32
  ![v3087.toNat, 192]
def k1_off1970 (v2584 : BitVec 32) (v2586 : BitVec 32) (k1_t141 : Fin (k1_t141_loop v2584 v2586).trips) (k1_t144 : Fin (k1_t144_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t144
  let v3026 : BitVec 32 := Scalar.addi v3015 arg46
  let v3092 : Index := Scalar.indexCast v3026
  let c208_1459 : Index := 208#32
  ![v3092.toNat, 208]
def k1_off1971 (v2584 : BitVec 32) (v2586 : BitVec 32) (k1_t141 : Fin (k1_t141_loop v2584 v2586).trips) (k1_t144 : Fin (k1_t144_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t144
  let v3026 : BitVec 32 := Scalar.addi v3015 arg46
  let v3097 : Index := Scalar.indexCast v3026
  let c224_1460 : Index := 224#32
  ![v3097.toNat, 224]
def k1_off1972 (v2584 : BitVec 32) (v2586 : BitVec 32) (k1_t141 : Fin (k1_t141_loop v2584 v2586).trips) (k1_t144 : Fin (k1_t144_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t144
  let v3026 : BitVec 32 := Scalar.addi v3015 arg46
  let v3102 : Index := Scalar.indexCast v3026
  let c240_1461 : Index := 240#32
  ![v3102.toNat, 240]
@[reducible] def k1_t145_loop (v2584 : BitVec 32) (v2586 : BitVec 32) (k1_t141 : Fin (k1_t141_loop v2584 v2586).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off1973 (v2584 : BitVec 32) (v2586 : BitVec 32) (k1_t141 : Fin (k1_t141_loop v2584 v2586).trips) (k1_t145 : Fin (k1_t145_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t145
  let v3026 : BitVec 32 := Scalar.addi v3015 arg46
  let v3027 : Index := Scalar.indexCast v3026
  let c0_1446 : Index := 0#32
  ![v3027.toNat, 0]
def k1_off1974 (v2584 : BitVec 32) (v2586 : BitVec 32) (k1_t141 : Fin (k1_t141_loop v2584 v2586).trips) (k1_t145 : Fin (k1_t145_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t145
  let v3026 : BitVec 32 := Scalar.addi v3015 arg46
  let v3032 : Index := Scalar.indexCast v3026
  let c16_1447 : Index := 16#32
  ![v3032.toNat, 16]
def k1_off1975 (v2584 : BitVec 32) (v2586 : BitVec 32) (k1_t141 : Fin (k1_t141_loop v2584 v2586).trips) (k1_t145 : Fin (k1_t145_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t145
  let v3026 : BitVec 32 := Scalar.addi v3015 arg46
  let v3037 : Index := Scalar.indexCast v3026
  let c32_1448 : Index := 32#32
  ![v3037.toNat, 32]
def k1_off1976 (v2584 : BitVec 32) (v2586 : BitVec 32) (k1_t141 : Fin (k1_t141_loop v2584 v2586).trips) (k1_t145 : Fin (k1_t145_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t145
  let v3026 : BitVec 32 := Scalar.addi v3015 arg46
  let v3042 : Index := Scalar.indexCast v3026
  let c48_1449 : Index := 48#32
  ![v3042.toNat, 48]
def k1_off1977 (v2584 : BitVec 32) (v2586 : BitVec 32) (k1_t141 : Fin (k1_t141_loop v2584 v2586).trips) (k1_t145 : Fin (k1_t145_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t145
  let v3026 : BitVec 32 := Scalar.addi v3015 arg46
  let v3047 : Index := Scalar.indexCast v3026
  let c64_1450 : Index := 64#32
  ![v3047.toNat, 64]
def k1_off1978 (v2584 : BitVec 32) (v2586 : BitVec 32) (k1_t141 : Fin (k1_t141_loop v2584 v2586).trips) (k1_t145 : Fin (k1_t145_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t145
  let v3026 : BitVec 32 := Scalar.addi v3015 arg46
  let v3052 : Index := Scalar.indexCast v3026
  let c80_1451 : Index := 80#32
  ![v3052.toNat, 80]
def k1_off1979 (v2584 : BitVec 32) (v2586 : BitVec 32) (k1_t141 : Fin (k1_t141_loop v2584 v2586).trips) (k1_t145 : Fin (k1_t145_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t145
  let v3026 : BitVec 32 := Scalar.addi v3015 arg46
  let v3057 : Index := Scalar.indexCast v3026
  let c96_1452 : Index := 96#32
  ![v3057.toNat, 96]
def k1_off1980 (v2584 : BitVec 32) (v2586 : BitVec 32) (k1_t141 : Fin (k1_t141_loop v2584 v2586).trips) (k1_t145 : Fin (k1_t145_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t145
  let v3026 : BitVec 32 := Scalar.addi v3015 arg46
  let v3062 : Index := Scalar.indexCast v3026
  let c112_1453 : Index := 112#32
  ![v3062.toNat, 112]
def k1_off1981 (v2584 : BitVec 32) (v2586 : BitVec 32) (k1_t141 : Fin (k1_t141_loop v2584 v2586).trips) (k1_t145 : Fin (k1_t145_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t145
  let v3026 : BitVec 32 := Scalar.addi v3015 arg46
  let v3067 : Index := Scalar.indexCast v3026
  let c128_1454 : Index := 128#32
  ![v3067.toNat, 128]
def k1_off1982 (v2584 : BitVec 32) (v2586 : BitVec 32) (k1_t141 : Fin (k1_t141_loop v2584 v2586).trips) (k1_t145 : Fin (k1_t145_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t145
  let v3026 : BitVec 32 := Scalar.addi v3015 arg46
  let v3072 : Index := Scalar.indexCast v3026
  let c144_1455 : Index := 144#32
  ![v3072.toNat, 144]
def k1_off1983 (v2584 : BitVec 32) (v2586 : BitVec 32) (k1_t141 : Fin (k1_t141_loop v2584 v2586).trips) (k1_t145 : Fin (k1_t145_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t145
  let v3026 : BitVec 32 := Scalar.addi v3015 arg46
  let v3077 : Index := Scalar.indexCast v3026
  let c160_1456 : Index := 160#32
  ![v3077.toNat, 160]
def k1_off1984 (v2584 : BitVec 32) (v2586 : BitVec 32) (k1_t141 : Fin (k1_t141_loop v2584 v2586).trips) (k1_t145 : Fin (k1_t145_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t145
  let v3026 : BitVec 32 := Scalar.addi v3015 arg46
  let v3082 : Index := Scalar.indexCast v3026
  let c176_1457 : Index := 176#32
  ![v3082.toNat, 176]
def k1_off1985 (v2584 : BitVec 32) (v2586 : BitVec 32) (k1_t141 : Fin (k1_t141_loop v2584 v2586).trips) (k1_t145 : Fin (k1_t145_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t145
  let v3026 : BitVec 32 := Scalar.addi v3015 arg46
  let v3087 : Index := Scalar.indexCast v3026
  let c192_1458 : Index := 192#32
  ![v3087.toNat, 192]
def k1_off1986 (v2584 : BitVec 32) (v2586 : BitVec 32) (k1_t141 : Fin (k1_t141_loop v2584 v2586).trips) (k1_t145 : Fin (k1_t145_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t145
  let v3026 : BitVec 32 := Scalar.addi v3015 arg46
  let v3092 : Index := Scalar.indexCast v3026
  let c208_1459 : Index := 208#32
  ![v3092.toNat, 208]
def k1_off1987 (v2584 : BitVec 32) (v2586 : BitVec 32) (k1_t141 : Fin (k1_t141_loop v2584 v2586).trips) (k1_t145 : Fin (k1_t145_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t145
  let v3026 : BitVec 32 := Scalar.addi v3015 arg46
  let v3097 : Index := Scalar.indexCast v3026
  let c224_1460 : Index := 224#32
  ![v3097.toNat, 224]
def k1_off1988 (v2584 : BitVec 32) (v2586 : BitVec 32) (k1_t141 : Fin (k1_t141_loop v2584 v2586).trips) (k1_t145 : Fin (k1_t145_loop v2584 v2586 k1_t141).trips) : Fin 2 → Nat :=
  let c2_i32_1426 : BitVec 32 := 2#32
  let c0_i32_1251 : BitVec 32 := 0#32
  let c1_i32_1253 : BitVec 32 := 1#32
  let arg13 : BitVec 32 := Scf.iv c0_i32_1251 c1_i32_1253 k1_t141
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t145
  let v3026 : BitVec 32 := Scalar.addi v3015 arg46
  let v3102 : Index := Scalar.indexCast v3026
  let c240_1461 : Index := 240#32
  ![v3102.toNat, 240]
@[reducible] def k1_t146_loop (v2584 : BitVec 32) (v2586 : BitVec 32) : Scf.Loop 32 :=
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let v2631 : BitVec 32 := Scalar.addi c0_i32_1251 v2630
  let c1_i32_1254 : BitVec 32 := 1#32
  ⟨v2634, v2631, c1_i32_1254⟩
def k1_off1989 (i : grid1.Coords) (v2584 : BitVec 32) (v2586 : BitVec 32) (k1_t146 : Fin (k1_t146_loop v2584 v2586).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1446 : BitVec 32 := 64#32
  let v3026 : BitVec 32 := Scalar.muli v2949 c64_i32_1446
  let v3027 : BitVec 32 := Scalar.addi v2584 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond132 (v2584 : BitVec 32) (v2586 : BitVec 32) (k1_t146 : Fin (k1_t146_loop v2584 v2586).trips) : BitVec 1 :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let v2950 : BitVec 1 := Scalar.cmpi .slt v2949 v2608
  let v2951 : BitVec 32 := Scalar.extui v2950
  let c0_i32_1409 : BitVec 32 := 0#32
  let v2952 : BitVec 1 := Scalar.cmpi .ne v2951 c0_i32_1409
  v2952

def k1_off1990 (i : grid1.Coords) (v2584 : BitVec 32) (v2586 : BitVec 32) (k1_t146 : Fin (k1_t146_loop v2584 v2586).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v2584 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond133 (v2584 : BitVec 32) (v2586 : BitVec 32) (k1_t146 : Fin (k1_t146_loop v2584 v2586).trips) : BitVec 1 :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c1_i32_1456 : BitVec 32 := 1#32
  let v3049 : BitVec 32 := Scalar.addi v2949 c1_i32_1456
  let v3050 : BitVec 1 := Scalar.cmpi .slt v3049 v2608
  let v3051 : BitVec 32 := Scalar.extui v3050
  let c0_i32_1457 : BitVec 32 := 0#32
  let v3052 : BitVec 1 := Scalar.cmpi .ne v3051 c0_i32_1457
  v3052

@[reducible] def k1_t147_loop (v2584 : BitVec 32) (v2586 : BitVec 32) (k1_t146 : Fin (k1_t146_loop v2584 v2586).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off1991 (v2584 : BitVec 32) (v2586 : BitVec 32) (k1_t146 : Fin (k1_t146_loop v2584 v2586).trips) (k1_t147 : Fin (k1_t147_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t147
  let v3026 : BitVec 32 := Scalar.addi v2976 arg46
  let v3027 : Index := Scalar.indexCast v3026
  let c0_1446 : Index := 0#32
  ![v3027.toNat, 0]
def k1_off1992 (v2584 : BitVec 32) (v2586 : BitVec 32) (k1_t146 : Fin (k1_t146_loop v2584 v2586).trips) (k1_t147 : Fin (k1_t147_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t147
  let v3026 : BitVec 32 := Scalar.addi v2976 arg46
  let v3032 : Index := Scalar.indexCast v3026
  let c16_1447 : Index := 16#32
  ![v3032.toNat, 16]
def k1_off1993 (v2584 : BitVec 32) (v2586 : BitVec 32) (k1_t146 : Fin (k1_t146_loop v2584 v2586).trips) (k1_t147 : Fin (k1_t147_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t147
  let v3026 : BitVec 32 := Scalar.addi v2976 arg46
  let v3037 : Index := Scalar.indexCast v3026
  let c32_1448 : Index := 32#32
  ![v3037.toNat, 32]
def k1_off1994 (v2584 : BitVec 32) (v2586 : BitVec 32) (k1_t146 : Fin (k1_t146_loop v2584 v2586).trips) (k1_t147 : Fin (k1_t147_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t147
  let v3026 : BitVec 32 := Scalar.addi v2976 arg46
  let v3042 : Index := Scalar.indexCast v3026
  let c48_1449 : Index := 48#32
  ![v3042.toNat, 48]
def k1_off1995 (v2584 : BitVec 32) (v2586 : BitVec 32) (k1_t146 : Fin (k1_t146_loop v2584 v2586).trips) (k1_t147 : Fin (k1_t147_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t147
  let v3026 : BitVec 32 := Scalar.addi v2976 arg46
  let v3047 : Index := Scalar.indexCast v3026
  let c64_1450 : Index := 64#32
  ![v3047.toNat, 64]
def k1_off1996 (v2584 : BitVec 32) (v2586 : BitVec 32) (k1_t146 : Fin (k1_t146_loop v2584 v2586).trips) (k1_t147 : Fin (k1_t147_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t147
  let v3026 : BitVec 32 := Scalar.addi v2976 arg46
  let v3052 : Index := Scalar.indexCast v3026
  let c80_1451 : Index := 80#32
  ![v3052.toNat, 80]
def k1_off1997 (v2584 : BitVec 32) (v2586 : BitVec 32) (k1_t146 : Fin (k1_t146_loop v2584 v2586).trips) (k1_t147 : Fin (k1_t147_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t147
  let v3026 : BitVec 32 := Scalar.addi v2976 arg46
  let v3057 : Index := Scalar.indexCast v3026
  let c96_1452 : Index := 96#32
  ![v3057.toNat, 96]
def k1_off1998 (v2584 : BitVec 32) (v2586 : BitVec 32) (k1_t146 : Fin (k1_t146_loop v2584 v2586).trips) (k1_t147 : Fin (k1_t147_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t147
  let v3026 : BitVec 32 := Scalar.addi v2976 arg46
  let v3062 : Index := Scalar.indexCast v3026
  let c112_1453 : Index := 112#32
  ![v3062.toNat, 112]
def k1_off1999 (v2584 : BitVec 32) (v2586 : BitVec 32) (k1_t146 : Fin (k1_t146_loop v2584 v2586).trips) (k1_t147 : Fin (k1_t147_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t147
  let v3026 : BitVec 32 := Scalar.addi v2976 arg46
  let v3067 : Index := Scalar.indexCast v3026
  let c128_1454 : Index := 128#32
  ![v3067.toNat, 128]
def k1_off2000 (v2584 : BitVec 32) (v2586 : BitVec 32) (k1_t146 : Fin (k1_t146_loop v2584 v2586).trips) (k1_t147 : Fin (k1_t147_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t147
  let v3026 : BitVec 32 := Scalar.addi v2976 arg46
  let v3072 : Index := Scalar.indexCast v3026
  let c144_1455 : Index := 144#32
  ![v3072.toNat, 144]
def k1_off2001 (v2584 : BitVec 32) (v2586 : BitVec 32) (k1_t146 : Fin (k1_t146_loop v2584 v2586).trips) (k1_t147 : Fin (k1_t147_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t147
  let v3026 : BitVec 32 := Scalar.addi v2976 arg46
  let v3077 : Index := Scalar.indexCast v3026
  let c160_1456 : Index := 160#32
  ![v3077.toNat, 160]
def k1_off2002 (v2584 : BitVec 32) (v2586 : BitVec 32) (k1_t146 : Fin (k1_t146_loop v2584 v2586).trips) (k1_t147 : Fin (k1_t147_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t147
  let v3026 : BitVec 32 := Scalar.addi v2976 arg46
  let v3082 : Index := Scalar.indexCast v3026
  let c176_1457 : Index := 176#32
  ![v3082.toNat, 176]
def k1_off2003 (v2584 : BitVec 32) (v2586 : BitVec 32) (k1_t146 : Fin (k1_t146_loop v2584 v2586).trips) (k1_t147 : Fin (k1_t147_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t147
  let v3026 : BitVec 32 := Scalar.addi v2976 arg46
  let v3087 : Index := Scalar.indexCast v3026
  let c192_1458 : Index := 192#32
  ![v3087.toNat, 192]
def k1_off2004 (v2584 : BitVec 32) (v2586 : BitVec 32) (k1_t146 : Fin (k1_t146_loop v2584 v2586).trips) (k1_t147 : Fin (k1_t147_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t147
  let v3026 : BitVec 32 := Scalar.addi v2976 arg46
  let v3092 : Index := Scalar.indexCast v3026
  let c208_1459 : Index := 208#32
  ![v3092.toNat, 208]
def k1_off2005 (v2584 : BitVec 32) (v2586 : BitVec 32) (k1_t146 : Fin (k1_t146_loop v2584 v2586).trips) (k1_t147 : Fin (k1_t147_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t147
  let v3026 : BitVec 32 := Scalar.addi v2976 arg46
  let v3097 : Index := Scalar.indexCast v3026
  let c224_1460 : Index := 224#32
  ![v3097.toNat, 224]
def k1_off2006 (v2584 : BitVec 32) (v2586 : BitVec 32) (k1_t146 : Fin (k1_t146_loop v2584 v2586).trips) (k1_t147 : Fin (k1_t147_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t147
  let v3026 : BitVec 32 := Scalar.addi v2976 arg46
  let v3102 : Index := Scalar.indexCast v3026
  let c240_1461 : Index := 240#32
  ![v3102.toNat, 240]
@[reducible] def k1_t148_loop (v2584 : BitVec 32) (v2586 : BitVec 32) (k1_t146 : Fin (k1_t146_loop v2584 v2586).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off2007 (v2584 : BitVec 32) (v2586 : BitVec 32) (k1_t146 : Fin (k1_t146_loop v2584 v2586).trips) (k1_t148 : Fin (k1_t148_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t148
  let v3026 : BitVec 32 := Scalar.addi v2976 arg46
  let v3027 : Index := Scalar.indexCast v3026
  let c0_1446 : Index := 0#32
  ![v3027.toNat, 0]
def k1_off2008 (v2584 : BitVec 32) (v2586 : BitVec 32) (k1_t146 : Fin (k1_t146_loop v2584 v2586).trips) (k1_t148 : Fin (k1_t148_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t148
  let v3026 : BitVec 32 := Scalar.addi v2976 arg46
  let v3032 : Index := Scalar.indexCast v3026
  let c16_1447 : Index := 16#32
  ![v3032.toNat, 16]
def k1_off2009 (v2584 : BitVec 32) (v2586 : BitVec 32) (k1_t146 : Fin (k1_t146_loop v2584 v2586).trips) (k1_t148 : Fin (k1_t148_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t148
  let v3026 : BitVec 32 := Scalar.addi v2976 arg46
  let v3037 : Index := Scalar.indexCast v3026
  let c32_1448 : Index := 32#32
  ![v3037.toNat, 32]
def k1_off2010 (v2584 : BitVec 32) (v2586 : BitVec 32) (k1_t146 : Fin (k1_t146_loop v2584 v2586).trips) (k1_t148 : Fin (k1_t148_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t148
  let v3026 : BitVec 32 := Scalar.addi v2976 arg46
  let v3042 : Index := Scalar.indexCast v3026
  let c48_1449 : Index := 48#32
  ![v3042.toNat, 48]
def k1_off2011 (v2584 : BitVec 32) (v2586 : BitVec 32) (k1_t146 : Fin (k1_t146_loop v2584 v2586).trips) (k1_t148 : Fin (k1_t148_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t148
  let v3026 : BitVec 32 := Scalar.addi v2976 arg46
  let v3047 : Index := Scalar.indexCast v3026
  let c64_1450 : Index := 64#32
  ![v3047.toNat, 64]
def k1_off2012 (v2584 : BitVec 32) (v2586 : BitVec 32) (k1_t146 : Fin (k1_t146_loop v2584 v2586).trips) (k1_t148 : Fin (k1_t148_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t148
  let v3026 : BitVec 32 := Scalar.addi v2976 arg46
  let v3052 : Index := Scalar.indexCast v3026
  let c80_1451 : Index := 80#32
  ![v3052.toNat, 80]
def k1_off2013 (v2584 : BitVec 32) (v2586 : BitVec 32) (k1_t146 : Fin (k1_t146_loop v2584 v2586).trips) (k1_t148 : Fin (k1_t148_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t148
  let v3026 : BitVec 32 := Scalar.addi v2976 arg46
  let v3057 : Index := Scalar.indexCast v3026
  let c96_1452 : Index := 96#32
  ![v3057.toNat, 96]
def k1_off2014 (v2584 : BitVec 32) (v2586 : BitVec 32) (k1_t146 : Fin (k1_t146_loop v2584 v2586).trips) (k1_t148 : Fin (k1_t148_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t148
  let v3026 : BitVec 32 := Scalar.addi v2976 arg46
  let v3062 : Index := Scalar.indexCast v3026
  let c112_1453 : Index := 112#32
  ![v3062.toNat, 112]
def k1_off2015 (v2584 : BitVec 32) (v2586 : BitVec 32) (k1_t146 : Fin (k1_t146_loop v2584 v2586).trips) (k1_t148 : Fin (k1_t148_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t148
  let v3026 : BitVec 32 := Scalar.addi v2976 arg46
  let v3067 : Index := Scalar.indexCast v3026
  let c128_1454 : Index := 128#32
  ![v3067.toNat, 128]
def k1_off2016 (v2584 : BitVec 32) (v2586 : BitVec 32) (k1_t146 : Fin (k1_t146_loop v2584 v2586).trips) (k1_t148 : Fin (k1_t148_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t148
  let v3026 : BitVec 32 := Scalar.addi v2976 arg46
  let v3072 : Index := Scalar.indexCast v3026
  let c144_1455 : Index := 144#32
  ![v3072.toNat, 144]
def k1_off2017 (v2584 : BitVec 32) (v2586 : BitVec 32) (k1_t146 : Fin (k1_t146_loop v2584 v2586).trips) (k1_t148 : Fin (k1_t148_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t148
  let v3026 : BitVec 32 := Scalar.addi v2976 arg46
  let v3077 : Index := Scalar.indexCast v3026
  let c160_1456 : Index := 160#32
  ![v3077.toNat, 160]
def k1_off2018 (v2584 : BitVec 32) (v2586 : BitVec 32) (k1_t146 : Fin (k1_t146_loop v2584 v2586).trips) (k1_t148 : Fin (k1_t148_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t148
  let v3026 : BitVec 32 := Scalar.addi v2976 arg46
  let v3082 : Index := Scalar.indexCast v3026
  let c176_1457 : Index := 176#32
  ![v3082.toNat, 176]
def k1_off2019 (v2584 : BitVec 32) (v2586 : BitVec 32) (k1_t146 : Fin (k1_t146_loop v2584 v2586).trips) (k1_t148 : Fin (k1_t148_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t148
  let v3026 : BitVec 32 := Scalar.addi v2976 arg46
  let v3087 : Index := Scalar.indexCast v3026
  let c192_1458 : Index := 192#32
  ![v3087.toNat, 192]
def k1_off2020 (v2584 : BitVec 32) (v2586 : BitVec 32) (k1_t146 : Fin (k1_t146_loop v2584 v2586).trips) (k1_t148 : Fin (k1_t148_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t148
  let v3026 : BitVec 32 := Scalar.addi v2976 arg46
  let v3092 : Index := Scalar.indexCast v3026
  let c208_1459 : Index := 208#32
  ![v3092.toNat, 208]
def k1_off2021 (v2584 : BitVec 32) (v2586 : BitVec 32) (k1_t146 : Fin (k1_t146_loop v2584 v2586).trips) (k1_t148 : Fin (k1_t148_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t148
  let v3026 : BitVec 32 := Scalar.addi v2976 arg46
  let v3097 : Index := Scalar.indexCast v3026
  let c224_1460 : Index := 224#32
  ![v3097.toNat, 224]
def k1_off2022 (v2584 : BitVec 32) (v2586 : BitVec 32) (k1_t146 : Fin (k1_t146_loop v2584 v2586).trips) (k1_t148 : Fin (k1_t148_loop v2584 v2586 k1_t146).trips) : Fin 2 → Nat :=
  let c2_i32_1408 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2949 : BitVec 32 := Scalar.muli c2_i32_1408 arg13
  let c64_i32_1410 : BitVec 32 := 64#32
  let v2953 : BitVec 32 := Scalar.muli v2949 c64_i32_1410
  let v2954 : BitVec 32 := Scalar.addi v2584 v2953
  let c64_i32_1411 : BitVec 32 := 64#32
  let v2955 : BitVec 32 := Scalar.muli v2949 c64_i32_1411
  let v2956 : BitVec 32 := Scalar.addi v2584 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2586 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t148
  let v3026 : BitVec 32 := Scalar.addi v2976 arg46
  let v3102 : Index := Scalar.indexCast v3026
  let c240_1461 : Index := 240#32
  ![v3102.toNat, 240]
def k1_off2023 (i : grid1.Coords) (v2584 : BitVec 32) (v2586 : BitVec 32) (k1_t146 : Fin (k1_t146_loop v2584 v2586).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v2584 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond134 (v2584 : BitVec 32) (v2586 : BitVec 32) (k1_t146 : Fin (k1_t146_loop v2584 v2586).trips) : BitVec 1 :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let v2989 : BitVec 1 := Scalar.cmpi .slt v2988 v2608
  let v2990 : BitVec 32 := Scalar.extui v2989
  let c0_i32_1428 : BitVec 32 := 0#32
  let v2991 : BitVec 1 := Scalar.cmpi .ne v2990 c0_i32_1428
  v2991

def k1_off2024 (i : grid1.Coords) (v2584 : BitVec 32) (v2586 : BitVec 32) (k1_t146 : Fin (k1_t146_loop v2584 v2586).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v2584 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond135 (v2584 : BitVec 32) (v2586 : BitVec 32) (k1_t146 : Fin (k1_t146_loop v2584 v2586).trips) : BitVec 1 :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v3050 : BitVec 1 := Scalar.cmpi .slt v3049 v2608
  let v3051 : BitVec 32 := Scalar.extui v3050
  let c0_i32_1457 : BitVec 32 := 0#32
  let v3052 : BitVec 1 := Scalar.cmpi .ne v3051 c0_i32_1457
  v3052

@[reducible] def k1_t149_loop (v2584 : BitVec 32) (v2586 : BitVec 32) (k1_t146 : Fin (k1_t146_loop v2584 v2586).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off2025 (v2584 : BitVec 32) (v2586 : BitVec 32) (k1_t146 : Fin (k1_t146_loop v2584 v2586).trips) (k1_t149 : Fin (k1_t149_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t149
  let v3026 : BitVec 32 := Scalar.addi v3015 arg46
  let v3027 : Index := Scalar.indexCast v3026
  let c0_1446 : Index := 0#32
  ![v3027.toNat, 0]
def k1_off2026 (v2584 : BitVec 32) (v2586 : BitVec 32) (k1_t146 : Fin (k1_t146_loop v2584 v2586).trips) (k1_t149 : Fin (k1_t149_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t149
  let v3026 : BitVec 32 := Scalar.addi v3015 arg46
  let v3032 : Index := Scalar.indexCast v3026
  let c16_1447 : Index := 16#32
  ![v3032.toNat, 16]
def k1_off2027 (v2584 : BitVec 32) (v2586 : BitVec 32) (k1_t146 : Fin (k1_t146_loop v2584 v2586).trips) (k1_t149 : Fin (k1_t149_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t149
  let v3026 : BitVec 32 := Scalar.addi v3015 arg46
  let v3037 : Index := Scalar.indexCast v3026
  let c32_1448 : Index := 32#32
  ![v3037.toNat, 32]
def k1_off2028 (v2584 : BitVec 32) (v2586 : BitVec 32) (k1_t146 : Fin (k1_t146_loop v2584 v2586).trips) (k1_t149 : Fin (k1_t149_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t149
  let v3026 : BitVec 32 := Scalar.addi v3015 arg46
  let v3042 : Index := Scalar.indexCast v3026
  let c48_1449 : Index := 48#32
  ![v3042.toNat, 48]
def k1_off2029 (v2584 : BitVec 32) (v2586 : BitVec 32) (k1_t146 : Fin (k1_t146_loop v2584 v2586).trips) (k1_t149 : Fin (k1_t149_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t149
  let v3026 : BitVec 32 := Scalar.addi v3015 arg46
  let v3047 : Index := Scalar.indexCast v3026
  let c64_1450 : Index := 64#32
  ![v3047.toNat, 64]
def k1_off2030 (v2584 : BitVec 32) (v2586 : BitVec 32) (k1_t146 : Fin (k1_t146_loop v2584 v2586).trips) (k1_t149 : Fin (k1_t149_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t149
  let v3026 : BitVec 32 := Scalar.addi v3015 arg46
  let v3052 : Index := Scalar.indexCast v3026
  let c80_1451 : Index := 80#32
  ![v3052.toNat, 80]
def k1_off2031 (v2584 : BitVec 32) (v2586 : BitVec 32) (k1_t146 : Fin (k1_t146_loop v2584 v2586).trips) (k1_t149 : Fin (k1_t149_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t149
  let v3026 : BitVec 32 := Scalar.addi v3015 arg46
  let v3057 : Index := Scalar.indexCast v3026
  let c96_1452 : Index := 96#32
  ![v3057.toNat, 96]
def k1_off2032 (v2584 : BitVec 32) (v2586 : BitVec 32) (k1_t146 : Fin (k1_t146_loop v2584 v2586).trips) (k1_t149 : Fin (k1_t149_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t149
  let v3026 : BitVec 32 := Scalar.addi v3015 arg46
  let v3062 : Index := Scalar.indexCast v3026
  let c112_1453 : Index := 112#32
  ![v3062.toNat, 112]
def k1_off2033 (v2584 : BitVec 32) (v2586 : BitVec 32) (k1_t146 : Fin (k1_t146_loop v2584 v2586).trips) (k1_t149 : Fin (k1_t149_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t149
  let v3026 : BitVec 32 := Scalar.addi v3015 arg46
  let v3067 : Index := Scalar.indexCast v3026
  let c128_1454 : Index := 128#32
  ![v3067.toNat, 128]
def k1_off2034 (v2584 : BitVec 32) (v2586 : BitVec 32) (k1_t146 : Fin (k1_t146_loop v2584 v2586).trips) (k1_t149 : Fin (k1_t149_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t149
  let v3026 : BitVec 32 := Scalar.addi v3015 arg46
  let v3072 : Index := Scalar.indexCast v3026
  let c144_1455 : Index := 144#32
  ![v3072.toNat, 144]
def k1_off2035 (v2584 : BitVec 32) (v2586 : BitVec 32) (k1_t146 : Fin (k1_t146_loop v2584 v2586).trips) (k1_t149 : Fin (k1_t149_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t149
  let v3026 : BitVec 32 := Scalar.addi v3015 arg46
  let v3077 : Index := Scalar.indexCast v3026
  let c160_1456 : Index := 160#32
  ![v3077.toNat, 160]
def k1_off2036 (v2584 : BitVec 32) (v2586 : BitVec 32) (k1_t146 : Fin (k1_t146_loop v2584 v2586).trips) (k1_t149 : Fin (k1_t149_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t149
  let v3026 : BitVec 32 := Scalar.addi v3015 arg46
  let v3082 : Index := Scalar.indexCast v3026
  let c176_1457 : Index := 176#32
  ![v3082.toNat, 176]
def k1_off2037 (v2584 : BitVec 32) (v2586 : BitVec 32) (k1_t146 : Fin (k1_t146_loop v2584 v2586).trips) (k1_t149 : Fin (k1_t149_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t149
  let v3026 : BitVec 32 := Scalar.addi v3015 arg46
  let v3087 : Index := Scalar.indexCast v3026
  let c192_1458 : Index := 192#32
  ![v3087.toNat, 192]
def k1_off2038 (v2584 : BitVec 32) (v2586 : BitVec 32) (k1_t146 : Fin (k1_t146_loop v2584 v2586).trips) (k1_t149 : Fin (k1_t149_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t149
  let v3026 : BitVec 32 := Scalar.addi v3015 arg46
  let v3092 : Index := Scalar.indexCast v3026
  let c208_1459 : Index := 208#32
  ![v3092.toNat, 208]
def k1_off2039 (v2584 : BitVec 32) (v2586 : BitVec 32) (k1_t146 : Fin (k1_t146_loop v2584 v2586).trips) (k1_t149 : Fin (k1_t149_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t149
  let v3026 : BitVec 32 := Scalar.addi v3015 arg46
  let v3097 : Index := Scalar.indexCast v3026
  let c224_1460 : Index := 224#32
  ![v3097.toNat, 224]
def k1_off2040 (v2584 : BitVec 32) (v2586 : BitVec 32) (k1_t146 : Fin (k1_t146_loop v2584 v2586).trips) (k1_t149 : Fin (k1_t149_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t149
  let v3026 : BitVec 32 := Scalar.addi v3015 arg46
  let v3102 : Index := Scalar.indexCast v3026
  let c240_1461 : Index := 240#32
  ![v3102.toNat, 240]
@[reducible] def k1_t150_loop (v2584 : BitVec 32) (v2586 : BitVec 32) (k1_t146 : Fin (k1_t146_loop v2584 v2586).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off2041 (v2584 : BitVec 32) (v2586 : BitVec 32) (k1_t146 : Fin (k1_t146_loop v2584 v2586).trips) (k1_t150 : Fin (k1_t150_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t150
  let v3026 : BitVec 32 := Scalar.addi v3015 arg46
  let v3027 : Index := Scalar.indexCast v3026
  let c0_1446 : Index := 0#32
  ![v3027.toNat, 0]
def k1_off2042 (v2584 : BitVec 32) (v2586 : BitVec 32) (k1_t146 : Fin (k1_t146_loop v2584 v2586).trips) (k1_t150 : Fin (k1_t150_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t150
  let v3026 : BitVec 32 := Scalar.addi v3015 arg46
  let v3032 : Index := Scalar.indexCast v3026
  let c16_1447 : Index := 16#32
  ![v3032.toNat, 16]
def k1_off2043 (v2584 : BitVec 32) (v2586 : BitVec 32) (k1_t146 : Fin (k1_t146_loop v2584 v2586).trips) (k1_t150 : Fin (k1_t150_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t150
  let v3026 : BitVec 32 := Scalar.addi v3015 arg46
  let v3037 : Index := Scalar.indexCast v3026
  let c32_1448 : Index := 32#32
  ![v3037.toNat, 32]
def k1_off2044 (v2584 : BitVec 32) (v2586 : BitVec 32) (k1_t146 : Fin (k1_t146_loop v2584 v2586).trips) (k1_t150 : Fin (k1_t150_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t150
  let v3026 : BitVec 32 := Scalar.addi v3015 arg46
  let v3042 : Index := Scalar.indexCast v3026
  let c48_1449 : Index := 48#32
  ![v3042.toNat, 48]
def k1_off2045 (v2584 : BitVec 32) (v2586 : BitVec 32) (k1_t146 : Fin (k1_t146_loop v2584 v2586).trips) (k1_t150 : Fin (k1_t150_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t150
  let v3026 : BitVec 32 := Scalar.addi v3015 arg46
  let v3047 : Index := Scalar.indexCast v3026
  let c64_1450 : Index := 64#32
  ![v3047.toNat, 64]
def k1_off2046 (v2584 : BitVec 32) (v2586 : BitVec 32) (k1_t146 : Fin (k1_t146_loop v2584 v2586).trips) (k1_t150 : Fin (k1_t150_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t150
  let v3026 : BitVec 32 := Scalar.addi v3015 arg46
  let v3052 : Index := Scalar.indexCast v3026
  let c80_1451 : Index := 80#32
  ![v3052.toNat, 80]
def k1_off2047 (v2584 : BitVec 32) (v2586 : BitVec 32) (k1_t146 : Fin (k1_t146_loop v2584 v2586).trips) (k1_t150 : Fin (k1_t150_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t150
  let v3026 : BitVec 32 := Scalar.addi v3015 arg46
  let v3057 : Index := Scalar.indexCast v3026
  let c96_1452 : Index := 96#32
  ![v3057.toNat, 96]
def k1_off2048 (v2584 : BitVec 32) (v2586 : BitVec 32) (k1_t146 : Fin (k1_t146_loop v2584 v2586).trips) (k1_t150 : Fin (k1_t150_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t150
  let v3026 : BitVec 32 := Scalar.addi v3015 arg46
  let v3062 : Index := Scalar.indexCast v3026
  let c112_1453 : Index := 112#32
  ![v3062.toNat, 112]
def k1_off2049 (v2584 : BitVec 32) (v2586 : BitVec 32) (k1_t146 : Fin (k1_t146_loop v2584 v2586).trips) (k1_t150 : Fin (k1_t150_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t150
  let v3026 : BitVec 32 := Scalar.addi v3015 arg46
  let v3067 : Index := Scalar.indexCast v3026
  let c128_1454 : Index := 128#32
  ![v3067.toNat, 128]
def k1_off2050 (v2584 : BitVec 32) (v2586 : BitVec 32) (k1_t146 : Fin (k1_t146_loop v2584 v2586).trips) (k1_t150 : Fin (k1_t150_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t150
  let v3026 : BitVec 32 := Scalar.addi v3015 arg46
  let v3072 : Index := Scalar.indexCast v3026
  let c144_1455 : Index := 144#32
  ![v3072.toNat, 144]
def k1_off2051 (v2584 : BitVec 32) (v2586 : BitVec 32) (k1_t146 : Fin (k1_t146_loop v2584 v2586).trips) (k1_t150 : Fin (k1_t150_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t150
  let v3026 : BitVec 32 := Scalar.addi v3015 arg46
  let v3077 : Index := Scalar.indexCast v3026
  let c160_1456 : Index := 160#32
  ![v3077.toNat, 160]
def k1_off2052 (v2584 : BitVec 32) (v2586 : BitVec 32) (k1_t146 : Fin (k1_t146_loop v2584 v2586).trips) (k1_t150 : Fin (k1_t150_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t150
  let v3026 : BitVec 32 := Scalar.addi v3015 arg46
  let v3082 : Index := Scalar.indexCast v3026
  let c176_1457 : Index := 176#32
  ![v3082.toNat, 176]
def k1_off2053 (v2584 : BitVec 32) (v2586 : BitVec 32) (k1_t146 : Fin (k1_t146_loop v2584 v2586).trips) (k1_t150 : Fin (k1_t150_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t150
  let v3026 : BitVec 32 := Scalar.addi v3015 arg46
  let v3087 : Index := Scalar.indexCast v3026
  let c192_1458 : Index := 192#32
  ![v3087.toNat, 192]
def k1_off2054 (v2584 : BitVec 32) (v2586 : BitVec 32) (k1_t146 : Fin (k1_t146_loop v2584 v2586).trips) (k1_t150 : Fin (k1_t150_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t150
  let v3026 : BitVec 32 := Scalar.addi v3015 arg46
  let v3092 : Index := Scalar.indexCast v3026
  let c208_1459 : Index := 208#32
  ![v3092.toNat, 208]
def k1_off2055 (v2584 : BitVec 32) (v2586 : BitVec 32) (k1_t146 : Fin (k1_t146_loop v2584 v2586).trips) (k1_t150 : Fin (k1_t150_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t150
  let v3026 : BitVec 32 := Scalar.addi v3015 arg46
  let v3097 : Index := Scalar.indexCast v3026
  let c224_1460 : Index := 224#32
  ![v3097.toNat, 224]
def k1_off2056 (v2584 : BitVec 32) (v2586 : BitVec 32) (k1_t146 : Fin (k1_t146_loop v2584 v2586).trips) (k1_t150 : Fin (k1_t150_loop v2584 v2586 k1_t146).trips) : Fin 2 → Nat :=
  let c2_i32_1426 : BitVec 32 := 2#32
  let c0_i32_1251 : BitVec 32 := 0#32
  let v2589 : BitVec 32 := Scalar.subi v2586 v2584
  let c64_i32_1232 : BitVec 32 := 64#32
  let v2590 : BitVec 32 := Scalar.addi v2589 c64_i32_1232
  let c1_i32_1233 : BitVec 32 := 1#32
  let v2591 : BitVec 32 := Scalar.subi v2590 c1_i32_1233
  let c0_i32_1235 : BitVec 32 := 0#32
  let v2593 : BitVec 1 := Scalar.cmpi .sgt v2591 c0_i32_1235
  let v2594 : BitVec 32 := Scalar.extui v2593
  let c0_i32_1236 : BitVec 32 := 0#32
  let v2595 : BitVec 1 := Scalar.cmpi .slt v2591 c0_i32_1236
  let v2596 : BitVec 32 := Scalar.extui v2595
  let v2597 : BitVec 32 := Scalar.subi v2594 v2596
  let c64_i32_1234 : BitVec 32 := 64#32
  let c0_i32_1237 : BitVec 32 := 0#32
  let v2598 : BitVec 1 := Scalar.cmpi .sgt c64_i32_1234 c0_i32_1237
  let v2599 : BitVec 32 := Scalar.extui v2598
  let c0_i32_1238 : BitVec 32 := 0#32
  let v2600 : BitVec 1 := Scalar.cmpi .slt c64_i32_1234 c0_i32_1238
  let v2601 : BitVec 32 := Scalar.extui v2600
  let v2602 : BitVec 32 := Scalar.subi v2599 v2601
  let v2603 : BitVec 1 := Scalar.cmpi .ne v2597 v2602
  let v2604 : BitVec 32 := Scalar.remsi v2591 c64_i32_1234
  let c0_i32_1239 : BitVec 32 := 0#32
  let v2605 : BitVec 1 := Scalar.cmpi .ne v2604 c0_i32_1239
  let v2606 : BitVec 1 := Scalar.andi v2603 v2605
  let v2592 : BitVec 32 := Scalar.divsi v2591 c64_i32_1234
  let c1_i32_1240 : BitVec 32 := 1#32
  let v2607 : BitVec 32 := Scalar.subi v2592 c1_i32_1240
  let v2608 : BitVec 32 := Scalar.select v2606 v2607 v2592
  let c1_i32_1243 : BitVec 32 := 1#32
  let v2612 : BitVec 32 := Scalar.addi v2608 c1_i32_1243
  let c0_i32_1245 : BitVec 32 := 0#32
  let v2614 : BitVec 1 := Scalar.cmpi .sgt v2612 c0_i32_1245
  let v2615 : BitVec 32 := Scalar.extui v2614
  let c0_i32_1246 : BitVec 32 := 0#32
  let v2616 : BitVec 1 := Scalar.cmpi .slt v2612 c0_i32_1246
  let v2617 : BitVec 32 := Scalar.extui v2616
  let v2618 : BitVec 32 := Scalar.subi v2615 v2617
  let c2_i32_1244 : BitVec 32 := 2#32
  let c0_i32_1247 : BitVec 32 := 0#32
  let v2619 : BitVec 1 := Scalar.cmpi .sgt c2_i32_1244 c0_i32_1247
  let v2620 : BitVec 32 := Scalar.extui v2619
  let c0_i32_1248 : BitVec 32 := 0#32
  let v2621 : BitVec 1 := Scalar.cmpi .slt c2_i32_1244 c0_i32_1248
  let v2622 : BitVec 32 := Scalar.extui v2621
  let v2623 : BitVec 32 := Scalar.subi v2620 v2622
  let v2624 : BitVec 1 := Scalar.cmpi .ne v2618 v2623
  let v2625 : BitVec 32 := Scalar.remsi v2612 c2_i32_1244
  let c0_i32_1249 : BitVec 32 := 0#32
  let v2626 : BitVec 1 := Scalar.cmpi .ne v2625 c0_i32_1249
  let v2627 : BitVec 1 := Scalar.andi v2624 v2626
  let v2613 : BitVec 32 := Scalar.divsi v2612 c2_i32_1244
  let c1_i32_1250 : BitVec 32 := 1#32
  let v2628 : BitVec 32 := Scalar.subi v2613 c1_i32_1250
  let v2629 : BitVec 32 := Scalar.select v2627 v2628 v2613
  let v2630 : BitVec 32 := Scalar.subi v2629 c0_i32_1251
  let c1_i32_1252 : BitVec 32 := 1#32
  let v2632 : BitVec 32 := Scalar.divsi v2630 c1_i32_1252
  let v2633 : BitVec 32 := Scalar.muli v2632 c1_i32_1252
  let v2634 : BitVec 32 := Scalar.addi c0_i32_1251 v2633
  let c1_i32_1254 : BitVec 32 := 1#32
  let arg13 : BitVec 32 := Scf.iv v2634 c1_i32_1254 k1_t146
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2584 v2992
  let c64_i32_1430 : BitVec 32 := 64#32
  let v2994 : BitVec 32 := Scalar.muli v2988 c64_i32_1430
  let v2995 : BitVec 32 := Scalar.addi v2584 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2586 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t150
  let v3026 : BitVec 32 := Scalar.addi v3015 arg46
  let v3102 : Index := Scalar.indexCast v3026
  let c240_1461 : Index := 240#32
  ![v3102.toNat, 240]

def k1_chk15_0 (i : grid1.Coords) (v2584 : BitVec 32) (v2586 : BitVec 32) : Prop :=
  (∀ (k1_h127 : k1_cond127 v2584 v2586 = 1#1), ∀ a, (k1_off1920 i v2584) a + S72x256.size a ≤ S100000x512.size a) ∧
  ((k1_t141_loop v2584 v2586).OK) ∧
  (∀ k1_t141 : Fin (k1_t141_loop v2584 v2586).trips, ∀ (k1_h128 : k1_cond128 v2584 v2586 k1_t141 = 1#1), ∀ a, (k1_off1921 i v2584 v2586 k1_t141) a + S72x256.size a ≤ S100000x512.size a) ∧
  (∀ k1_t141 : Fin (k1_t141_loop v2584 v2586).trips, ∀ (k1_h128 : k1_cond128 v2584 v2586 k1_t141 = 1#1), ∀ (k1_h129 : k1_cond129 v2584 v2586 k1_t141 = 1#1), ∀ a, (k1_off1922 i v2584 v2586 k1_t141) a + S72x256.size a ≤ S100000x512.size a) ∧
  (∀ k1_t141 : Fin (k1_t141_loop v2584 v2586).trips, (k1_t142_loop v2584 v2586 k1_t141).OK) ∧
  (∀ (k1_t141 : Fin (k1_t141_loop v2584 v2586).trips) (k1_t142 : Fin (k1_t142_loop v2584 v2586 k1_t141).trips), ∀ a, (k1_off1923 v2584 v2586 k1_t141 k1_t142) a + S1x16.size a ≤ S72x256.size a) ∧
  (∀ (k1_t141 : Fin (k1_t141_loop v2584 v2586).trips) (k1_t142 : Fin (k1_t142_loop v2584 v2586 k1_t141).trips), ∀ a, (k1_off1924 v2584 v2586 k1_t141 k1_t142) a + S1x16.size a ≤ S72x256.size a) ∧
  (∀ (k1_t141 : Fin (k1_t141_loop v2584 v2586).trips) (k1_t142 : Fin (k1_t142_loop v2584 v2586 k1_t141).trips), ∀ a, (k1_off1925 v2584 v2586 k1_t141 k1_t142) a + S1x16.size a ≤ S72x256.size a) ∧
  (∀ (k1_t141 : Fin (k1_t141_loop v2584 v2586).trips) (k1_t142 : Fin (k1_t142_loop v2584 v2586 k1_t141).trips), ∀ a, (k1_off1926 v2584 v2586 k1_t141 k1_t142) a + S1x16.size a ≤ S72x256.size a) ∧
  (∀ (k1_t141 : Fin (k1_t141_loop v2584 v2586).trips) (k1_t142 : Fin (k1_t142_loop v2584 v2586 k1_t141).trips), ∀ a, (k1_off1927 v2584 v2586 k1_t141 k1_t142) a + S1x16.size a ≤ S72x256.size a) ∧
  (∀ (k1_t141 : Fin (k1_t141_loop v2584 v2586).trips) (k1_t142 : Fin (k1_t142_loop v2584 v2586 k1_t141).trips), ∀ a, (k1_off1928 v2584 v2586 k1_t141 k1_t142) a + S1x16.size a ≤ S72x256.size a) ∧
  (∀ (k1_t141 : Fin (k1_t141_loop v2584 v2586).trips) (k1_t142 : Fin (k1_t142_loop v2584 v2586 k1_t141).trips), ∀ a, (k1_off1929 v2584 v2586 k1_t141 k1_t142) a + S1x16.size a ≤ S72x256.size a) ∧
  (∀ (k1_t141 : Fin (k1_t141_loop v2584 v2586).trips) (k1_t142 : Fin (k1_t142_loop v2584 v2586 k1_t141).trips), ∀ a, (k1_off1930 v2584 v2586 k1_t141 k1_t142) a + S1x16.size a ≤ S72x256.size a) ∧
  (∀ (k1_t141 : Fin (k1_t141_loop v2584 v2586).trips) (k1_t142 : Fin (k1_t142_loop v2584 v2586 k1_t141).trips), ∀ a, (k1_off1931 v2584 v2586 k1_t141 k1_t142) a + S1x16.size a ≤ S72x256.size a) ∧
  (∀ (k1_t141 : Fin (k1_t141_loop v2584 v2586).trips) (k1_t142 : Fin (k1_t142_loop v2584 v2586 k1_t141).trips), ∀ a, (k1_off1932 v2584 v2586 k1_t141 k1_t142) a + S1x16.size a ≤ S72x256.size a) ∧
  (∀ (k1_t141 : Fin (k1_t141_loop v2584 v2586).trips) (k1_t142 : Fin (k1_t142_loop v2584 v2586 k1_t141).trips), ∀ a, (k1_off1933 v2584 v2586 k1_t141 k1_t142) a + S1x16.size a ≤ S72x256.size a) ∧
  (∀ (k1_t141 : Fin (k1_t141_loop v2584 v2586).trips) (k1_t142 : Fin (k1_t142_loop v2584 v2586 k1_t141).trips), ∀ a, (k1_off1934 v2584 v2586 k1_t141 k1_t142) a + S1x16.size a ≤ S72x256.size a) ∧
  (∀ (k1_t141 : Fin (k1_t141_loop v2584 v2586).trips) (k1_t142 : Fin (k1_t142_loop v2584 v2586 k1_t141).trips), ∀ a, (k1_off1935 v2584 v2586 k1_t141 k1_t142) a + S1x16.size a ≤ S72x256.size a) ∧
  (∀ (k1_t141 : Fin (k1_t141_loop v2584 v2586).trips) (k1_t142 : Fin (k1_t142_loop v2584 v2586 k1_t141).trips), ∀ a, (k1_off1936 v2584 v2586 k1_t141 k1_t142) a + S1x16.size a ≤ S72x256.size a) ∧
  (∀ (k1_t141 : Fin (k1_t141_loop v2584 v2586).trips) (k1_t142 : Fin (k1_t142_loop v2584 v2586 k1_t141).trips), ∀ a, (k1_off1937 v2584 v2586 k1_t141 k1_t142) a + S1x16.size a ≤ S72x256.size a) ∧
  (∀ (k1_t141 : Fin (k1_t141_loop v2584 v2586).trips) (k1_t142 : Fin (k1_t142_loop v2584 v2586 k1_t141).trips), ∀ a, (k1_off1938 v2584 v2586 k1_t141 k1_t142) a + S1x16.size a ≤ S72x256.size a) ∧
  (∀ k1_t141 : Fin (k1_t141_loop v2584 v2586).trips, (k1_t143_loop v2584 v2586 k1_t141).OK) ∧
  (∀ (k1_t141 : Fin (k1_t141_loop v2584 v2586).trips) (k1_t143 : Fin (k1_t143_loop v2584 v2586 k1_t141).trips), ∀ a, (k1_off1939 v2584 v2586 k1_t141 k1_t143) a + S1x16.size a ≤ S72x256.size a) ∧
  (∀ (k1_t141 : Fin (k1_t141_loop v2584 v2586).trips) (k1_t143 : Fin (k1_t143_loop v2584 v2586 k1_t141).trips), ∀ a, (k1_off1940 v2584 v2586 k1_t141 k1_t143) a + S1x16.size a ≤ S72x256.size a) ∧
  (∀ (k1_t141 : Fin (k1_t141_loop v2584 v2586).trips) (k1_t143 : Fin (k1_t143_loop v2584 v2586 k1_t141).trips), ∀ a, (k1_off1941 v2584 v2586 k1_t141 k1_t143) a + S1x16.size a ≤ S72x256.size a) ∧
  (∀ (k1_t141 : Fin (k1_t141_loop v2584 v2586).trips) (k1_t143 : Fin (k1_t143_loop v2584 v2586 k1_t141).trips), ∀ a, (k1_off1942 v2584 v2586 k1_t141 k1_t143) a + S1x16.size a ≤ S72x256.size a) ∧
  (∀ (k1_t141 : Fin (k1_t141_loop v2584 v2586).trips) (k1_t143 : Fin (k1_t143_loop v2584 v2586 k1_t141).trips), ∀ a, (k1_off1943 v2584 v2586 k1_t141 k1_t143) a + S1x16.size a ≤ S72x256.size a) ∧
  (∀ (k1_t141 : Fin (k1_t141_loop v2584 v2586).trips) (k1_t143 : Fin (k1_t143_loop v2584 v2586 k1_t141).trips), ∀ a, (k1_off1944 v2584 v2586 k1_t141 k1_t143) a + S1x16.size a ≤ S72x256.size a) ∧
  (∀ (k1_t141 : Fin (k1_t141_loop v2584 v2586).trips) (k1_t143 : Fin (k1_t143_loop v2584 v2586 k1_t141).trips), ∀ a, (k1_off1945 v2584 v2586 k1_t141 k1_t143) a + S1x16.size a ≤ S72x256.size a) ∧
  (∀ (k1_t141 : Fin (k1_t141_loop v2584 v2586).trips) (k1_t143 : Fin (k1_t143_loop v2584 v2586 k1_t141).trips), ∀ a, (k1_off1946 v2584 v2586 k1_t141 k1_t143) a + S1x16.size a ≤ S72x256.size a) ∧
  (∀ (k1_t141 : Fin (k1_t141_loop v2584 v2586).trips) (k1_t143 : Fin (k1_t143_loop v2584 v2586 k1_t141).trips), ∀ a, (k1_off1947 v2584 v2586 k1_t141 k1_t143) a + S1x16.size a ≤ S72x256.size a) ∧
  (∀ (k1_t141 : Fin (k1_t141_loop v2584 v2586).trips) (k1_t143 : Fin (k1_t143_loop v2584 v2586 k1_t141).trips), ∀ a, (k1_off1948 v2584 v2586 k1_t141 k1_t143) a + S1x16.size a ≤ S72x256.size a)
def k1_chk15_1 (i : grid1.Coords) (v2584 : BitVec 32) (v2586 : BitVec 32) : Prop :=
  (∀ (k1_t141 : Fin (k1_t141_loop v2584 v2586).trips) (k1_t143 : Fin (k1_t143_loop v2584 v2586 k1_t141).trips), ∀ a, (k1_off1949 v2584 v2586 k1_t141 k1_t143) a + S1x16.size a ≤ S72x256.size a) ∧
  (∀ (k1_t141 : Fin (k1_t141_loop v2584 v2586).trips) (k1_t143 : Fin (k1_t143_loop v2584 v2586 k1_t141).trips), ∀ a, (k1_off1950 v2584 v2586 k1_t141 k1_t143) a + S1x16.size a ≤ S72x256.size a) ∧
  (∀ (k1_t141 : Fin (k1_t141_loop v2584 v2586).trips) (k1_t143 : Fin (k1_t143_loop v2584 v2586 k1_t141).trips), ∀ a, (k1_off1951 v2584 v2586 k1_t141 k1_t143) a + S1x16.size a ≤ S72x256.size a) ∧
  (∀ (k1_t141 : Fin (k1_t141_loop v2584 v2586).trips) (k1_t143 : Fin (k1_t143_loop v2584 v2586 k1_t141).trips), ∀ a, (k1_off1952 v2584 v2586 k1_t141 k1_t143) a + S1x16.size a ≤ S72x256.size a) ∧
  (∀ (k1_t141 : Fin (k1_t141_loop v2584 v2586).trips) (k1_t143 : Fin (k1_t143_loop v2584 v2586 k1_t141).trips), ∀ a, (k1_off1953 v2584 v2586 k1_t141 k1_t143) a + S1x16.size a ≤ S72x256.size a) ∧
  (∀ (k1_t141 : Fin (k1_t141_loop v2584 v2586).trips) (k1_t143 : Fin (k1_t143_loop v2584 v2586 k1_t141).trips), ∀ a, (k1_off1954 v2584 v2586 k1_t141 k1_t143) a + S1x16.size a ≤ S72x256.size a) ∧
  (∀ k1_t141 : Fin (k1_t141_loop v2584 v2586).trips, ∀ (k1_h130 : k1_cond130 v2584 v2586 k1_t141 = 1#1), ∀ a, (k1_off1955 i v2584 v2586 k1_t141) a + S72x256.size a ≤ S100000x512.size a) ∧
  (∀ k1_t141 : Fin (k1_t141_loop v2584 v2586).trips, ∀ (k1_h130 : k1_cond130 v2584 v2586 k1_t141 = 1#1), ∀ (k1_h131 : k1_cond131 v2584 v2586 k1_t141 = 1#1), ∀ a, (k1_off1956 i v2584 v2586 k1_t141) a + S72x256.size a ≤ S100000x512.size a) ∧
  (∀ k1_t141 : Fin (k1_t141_loop v2584 v2586).trips, (k1_t144_loop v2584 v2586 k1_t141).OK) ∧
  (∀ (k1_t141 : Fin (k1_t141_loop v2584 v2586).trips) (k1_t144 : Fin (k1_t144_loop v2584 v2586 k1_t141).trips), ∀ a, (k1_off1957 v2584 v2586 k1_t141 k1_t144) a + S1x16.size a ≤ S72x256.size a) ∧
  (∀ (k1_t141 : Fin (k1_t141_loop v2584 v2586).trips) (k1_t144 : Fin (k1_t144_loop v2584 v2586 k1_t141).trips), ∀ a, (k1_off1958 v2584 v2586 k1_t141 k1_t144) a + S1x16.size a ≤ S72x256.size a) ∧
  (∀ (k1_t141 : Fin (k1_t141_loop v2584 v2586).trips) (k1_t144 : Fin (k1_t144_loop v2584 v2586 k1_t141).trips), ∀ a, (k1_off1959 v2584 v2586 k1_t141 k1_t144) a + S1x16.size a ≤ S72x256.size a) ∧
  (∀ (k1_t141 : Fin (k1_t141_loop v2584 v2586).trips) (k1_t144 : Fin (k1_t144_loop v2584 v2586 k1_t141).trips), ∀ a, (k1_off1960 v2584 v2586 k1_t141 k1_t144) a + S1x16.size a ≤ S72x256.size a) ∧
  (∀ (k1_t141 : Fin (k1_t141_loop v2584 v2586).trips) (k1_t144 : Fin (k1_t144_loop v2584 v2586 k1_t141).trips), ∀ a, (k1_off1961 v2584 v2586 k1_t141 k1_t144) a + S1x16.size a ≤ S72x256.size a) ∧
  (∀ (k1_t141 : Fin (k1_t141_loop v2584 v2586).trips) (k1_t144 : Fin (k1_t144_loop v2584 v2586 k1_t141).trips), ∀ a, (k1_off1962 v2584 v2586 k1_t141 k1_t144) a + S1x16.size a ≤ S72x256.size a) ∧
  (∀ (k1_t141 : Fin (k1_t141_loop v2584 v2586).trips) (k1_t144 : Fin (k1_t144_loop v2584 v2586 k1_t141).trips), ∀ a, (k1_off1963 v2584 v2586 k1_t141 k1_t144) a + S1x16.size a ≤ S72x256.size a) ∧
  (∀ (k1_t141 : Fin (k1_t141_loop v2584 v2586).trips) (k1_t144 : Fin (k1_t144_loop v2584 v2586 k1_t141).trips), ∀ a, (k1_off1964 v2584 v2586 k1_t141 k1_t144) a + S1x16.size a ≤ S72x256.size a) ∧
  (∀ (k1_t141 : Fin (k1_t141_loop v2584 v2586).trips) (k1_t144 : Fin (k1_t144_loop v2584 v2586 k1_t141).trips), ∀ a, (k1_off1965 v2584 v2586 k1_t141 k1_t144) a + S1x16.size a ≤ S72x256.size a) ∧
  (∀ (k1_t141 : Fin (k1_t141_loop v2584 v2586).trips) (k1_t144 : Fin (k1_t144_loop v2584 v2586 k1_t141).trips), ∀ a, (k1_off1966 v2584 v2586 k1_t141 k1_t144) a + S1x16.size a ≤ S72x256.size a) ∧
  (∀ (k1_t141 : Fin (k1_t141_loop v2584 v2586).trips) (k1_t144 : Fin (k1_t144_loop v2584 v2586 k1_t141).trips), ∀ a, (k1_off1967 v2584 v2586 k1_t141 k1_t144) a + S1x16.size a ≤ S72x256.size a) ∧
  (∀ (k1_t141 : Fin (k1_t141_loop v2584 v2586).trips) (k1_t144 : Fin (k1_t144_loop v2584 v2586 k1_t141).trips), ∀ a, (k1_off1968 v2584 v2586 k1_t141 k1_t144) a + S1x16.size a ≤ S72x256.size a) ∧
  (∀ (k1_t141 : Fin (k1_t141_loop v2584 v2586).trips) (k1_t144 : Fin (k1_t144_loop v2584 v2586 k1_t141).trips), ∀ a, (k1_off1969 v2584 v2586 k1_t141 k1_t144) a + S1x16.size a ≤ S72x256.size a) ∧
  (∀ (k1_t141 : Fin (k1_t141_loop v2584 v2586).trips) (k1_t144 : Fin (k1_t144_loop v2584 v2586 k1_t141).trips), ∀ a, (k1_off1970 v2584 v2586 k1_t141 k1_t144) a + S1x16.size a ≤ S72x256.size a) ∧
  (∀ (k1_t141 : Fin (k1_t141_loop v2584 v2586).trips) (k1_t144 : Fin (k1_t144_loop v2584 v2586 k1_t141).trips), ∀ a, (k1_off1971 v2584 v2586 k1_t141 k1_t144) a + S1x16.size a ≤ S72x256.size a) ∧
  (∀ (k1_t141 : Fin (k1_t141_loop v2584 v2586).trips) (k1_t144 : Fin (k1_t144_loop v2584 v2586 k1_t141).trips), ∀ a, (k1_off1972 v2584 v2586 k1_t141 k1_t144) a + S1x16.size a ≤ S72x256.size a) ∧
  (∀ k1_t141 : Fin (k1_t141_loop v2584 v2586).trips, (k1_t145_loop v2584 v2586 k1_t141).OK) ∧
  (∀ (k1_t141 : Fin (k1_t141_loop v2584 v2586).trips) (k1_t145 : Fin (k1_t145_loop v2584 v2586 k1_t141).trips), ∀ a, (k1_off1973 v2584 v2586 k1_t141 k1_t145) a + S1x16.size a ≤ S72x256.size a) ∧
  (∀ (k1_t141 : Fin (k1_t141_loop v2584 v2586).trips) (k1_t145 : Fin (k1_t145_loop v2584 v2586 k1_t141).trips), ∀ a, (k1_off1974 v2584 v2586 k1_t141 k1_t145) a + S1x16.size a ≤ S72x256.size a) ∧
  (∀ (k1_t141 : Fin (k1_t141_loop v2584 v2586).trips) (k1_t145 : Fin (k1_t145_loop v2584 v2586 k1_t141).trips), ∀ a, (k1_off1975 v2584 v2586 k1_t141 k1_t145) a + S1x16.size a ≤ S72x256.size a) ∧
  (∀ (k1_t141 : Fin (k1_t141_loop v2584 v2586).trips) (k1_t145 : Fin (k1_t145_loop v2584 v2586 k1_t141).trips), ∀ a, (k1_off1976 v2584 v2586 k1_t141 k1_t145) a + S1x16.size a ≤ S72x256.size a) ∧
  (∀ (k1_t141 : Fin (k1_t141_loop v2584 v2586).trips) (k1_t145 : Fin (k1_t145_loop v2584 v2586 k1_t141).trips), ∀ a, (k1_off1977 v2584 v2586 k1_t141 k1_t145) a + S1x16.size a ≤ S72x256.size a) ∧
  (∀ (k1_t141 : Fin (k1_t141_loop v2584 v2586).trips) (k1_t145 : Fin (k1_t145_loop v2584 v2586 k1_t141).trips), ∀ a, (k1_off1978 v2584 v2586 k1_t141 k1_t145) a + S1x16.size a ≤ S72x256.size a)
def k1_chk15_2 (i : grid1.Coords) (v2584 : BitVec 32) (v2586 : BitVec 32) : Prop :=
  (∀ (k1_t141 : Fin (k1_t141_loop v2584 v2586).trips) (k1_t145 : Fin (k1_t145_loop v2584 v2586 k1_t141).trips), ∀ a, (k1_off1979 v2584 v2586 k1_t141 k1_t145) a + S1x16.size a ≤ S72x256.size a) ∧
  (∀ (k1_t141 : Fin (k1_t141_loop v2584 v2586).trips) (k1_t145 : Fin (k1_t145_loop v2584 v2586 k1_t141).trips), ∀ a, (k1_off1980 v2584 v2586 k1_t141 k1_t145) a + S1x16.size a ≤ S72x256.size a) ∧
  (∀ (k1_t141 : Fin (k1_t141_loop v2584 v2586).trips) (k1_t145 : Fin (k1_t145_loop v2584 v2586 k1_t141).trips), ∀ a, (k1_off1981 v2584 v2586 k1_t141 k1_t145) a + S1x16.size a ≤ S72x256.size a) ∧
  (∀ (k1_t141 : Fin (k1_t141_loop v2584 v2586).trips) (k1_t145 : Fin (k1_t145_loop v2584 v2586 k1_t141).trips), ∀ a, (k1_off1982 v2584 v2586 k1_t141 k1_t145) a + S1x16.size a ≤ S72x256.size a) ∧
  (∀ (k1_t141 : Fin (k1_t141_loop v2584 v2586).trips) (k1_t145 : Fin (k1_t145_loop v2584 v2586 k1_t141).trips), ∀ a, (k1_off1983 v2584 v2586 k1_t141 k1_t145) a + S1x16.size a ≤ S72x256.size a) ∧
  (∀ (k1_t141 : Fin (k1_t141_loop v2584 v2586).trips) (k1_t145 : Fin (k1_t145_loop v2584 v2586 k1_t141).trips), ∀ a, (k1_off1984 v2584 v2586 k1_t141 k1_t145) a + S1x16.size a ≤ S72x256.size a) ∧
  (∀ (k1_t141 : Fin (k1_t141_loop v2584 v2586).trips) (k1_t145 : Fin (k1_t145_loop v2584 v2586 k1_t141).trips), ∀ a, (k1_off1985 v2584 v2586 k1_t141 k1_t145) a + S1x16.size a ≤ S72x256.size a) ∧
  (∀ (k1_t141 : Fin (k1_t141_loop v2584 v2586).trips) (k1_t145 : Fin (k1_t145_loop v2584 v2586 k1_t141).trips), ∀ a, (k1_off1986 v2584 v2586 k1_t141 k1_t145) a + S1x16.size a ≤ S72x256.size a) ∧
  (∀ (k1_t141 : Fin (k1_t141_loop v2584 v2586).trips) (k1_t145 : Fin (k1_t145_loop v2584 v2586 k1_t141).trips), ∀ a, (k1_off1987 v2584 v2586 k1_t141 k1_t145) a + S1x16.size a ≤ S72x256.size a) ∧
  (∀ (k1_t141 : Fin (k1_t141_loop v2584 v2586).trips) (k1_t145 : Fin (k1_t145_loop v2584 v2586 k1_t141).trips), ∀ a, (k1_off1988 v2584 v2586 k1_t141 k1_t145) a + S1x16.size a ≤ S72x256.size a) ∧
  ((k1_t146_loop v2584 v2586).OK) ∧
  (∀ k1_t146 : Fin (k1_t146_loop v2584 v2586).trips, ∀ (k1_h132 : k1_cond132 v2584 v2586 k1_t146 = 1#1), ∀ a, (k1_off1989 i v2584 v2586 k1_t146) a + S72x256.size a ≤ S100000x512.size a) ∧
  (∀ k1_t146 : Fin (k1_t146_loop v2584 v2586).trips, ∀ (k1_h132 : k1_cond132 v2584 v2586 k1_t146 = 1#1), ∀ (k1_h133 : k1_cond133 v2584 v2586 k1_t146 = 1#1), ∀ a, (k1_off1990 i v2584 v2586 k1_t146) a + S72x256.size a ≤ S100000x512.size a) ∧
  (∀ k1_t146 : Fin (k1_t146_loop v2584 v2586).trips, (k1_t147_loop v2584 v2586 k1_t146).OK) ∧
  (∀ (k1_t146 : Fin (k1_t146_loop v2584 v2586).trips) (k1_t147 : Fin (k1_t147_loop v2584 v2586 k1_t146).trips), ∀ a, (k1_off1991 v2584 v2586 k1_t146 k1_t147) a + S1x16.size a ≤ S72x256.size a) ∧
  (∀ (k1_t146 : Fin (k1_t146_loop v2584 v2586).trips) (k1_t147 : Fin (k1_t147_loop v2584 v2586 k1_t146).trips), ∀ a, (k1_off1992 v2584 v2586 k1_t146 k1_t147) a + S1x16.size a ≤ S72x256.size a) ∧
  (∀ (k1_t146 : Fin (k1_t146_loop v2584 v2586).trips) (k1_t147 : Fin (k1_t147_loop v2584 v2586 k1_t146).trips), ∀ a, (k1_off1993 v2584 v2586 k1_t146 k1_t147) a + S1x16.size a ≤ S72x256.size a) ∧
  (∀ (k1_t146 : Fin (k1_t146_loop v2584 v2586).trips) (k1_t147 : Fin (k1_t147_loop v2584 v2586 k1_t146).trips), ∀ a, (k1_off1994 v2584 v2586 k1_t146 k1_t147) a + S1x16.size a ≤ S72x256.size a) ∧
  (∀ (k1_t146 : Fin (k1_t146_loop v2584 v2586).trips) (k1_t147 : Fin (k1_t147_loop v2584 v2586 k1_t146).trips), ∀ a, (k1_off1995 v2584 v2586 k1_t146 k1_t147) a + S1x16.size a ≤ S72x256.size a) ∧
  (∀ (k1_t146 : Fin (k1_t146_loop v2584 v2586).trips) (k1_t147 : Fin (k1_t147_loop v2584 v2586 k1_t146).trips), ∀ a, (k1_off1996 v2584 v2586 k1_t146 k1_t147) a + S1x16.size a ≤ S72x256.size a) ∧
  (∀ (k1_t146 : Fin (k1_t146_loop v2584 v2586).trips) (k1_t147 : Fin (k1_t147_loop v2584 v2586 k1_t146).trips), ∀ a, (k1_off1997 v2584 v2586 k1_t146 k1_t147) a + S1x16.size a ≤ S72x256.size a) ∧
  (∀ (k1_t146 : Fin (k1_t146_loop v2584 v2586).trips) (k1_t147 : Fin (k1_t147_loop v2584 v2586 k1_t146).trips), ∀ a, (k1_off1998 v2584 v2586 k1_t146 k1_t147) a + S1x16.size a ≤ S72x256.size a) ∧
  (∀ (k1_t146 : Fin (k1_t146_loop v2584 v2586).trips) (k1_t147 : Fin (k1_t147_loop v2584 v2586 k1_t146).trips), ∀ a, (k1_off1999 v2584 v2586 k1_t146 k1_t147) a + S1x16.size a ≤ S72x256.size a) ∧
  (∀ (k1_t146 : Fin (k1_t146_loop v2584 v2586).trips) (k1_t147 : Fin (k1_t147_loop v2584 v2586 k1_t146).trips), ∀ a, (k1_off2000 v2584 v2586 k1_t146 k1_t147) a + S1x16.size a ≤ S72x256.size a) ∧
  (∀ (k1_t146 : Fin (k1_t146_loop v2584 v2586).trips) (k1_t147 : Fin (k1_t147_loop v2584 v2586 k1_t146).trips), ∀ a, (k1_off2001 v2584 v2586 k1_t146 k1_t147) a + S1x16.size a ≤ S72x256.size a) ∧
  (∀ (k1_t146 : Fin (k1_t146_loop v2584 v2586).trips) (k1_t147 : Fin (k1_t147_loop v2584 v2586 k1_t146).trips), ∀ a, (k1_off2002 v2584 v2586 k1_t146 k1_t147) a + S1x16.size a ≤ S72x256.size a) ∧
  (∀ (k1_t146 : Fin (k1_t146_loop v2584 v2586).trips) (k1_t147 : Fin (k1_t147_loop v2584 v2586 k1_t146).trips), ∀ a, (k1_off2003 v2584 v2586 k1_t146 k1_t147) a + S1x16.size a ≤ S72x256.size a) ∧
  (∀ (k1_t146 : Fin (k1_t146_loop v2584 v2586).trips) (k1_t147 : Fin (k1_t147_loop v2584 v2586 k1_t146).trips), ∀ a, (k1_off2004 v2584 v2586 k1_t146 k1_t147) a + S1x16.size a ≤ S72x256.size a) ∧
  (∀ (k1_t146 : Fin (k1_t146_loop v2584 v2586).trips) (k1_t147 : Fin (k1_t147_loop v2584 v2586 k1_t146).trips), ∀ a, (k1_off2005 v2584 v2586 k1_t146 k1_t147) a + S1x16.size a ≤ S72x256.size a) ∧
  (∀ (k1_t146 : Fin (k1_t146_loop v2584 v2586).trips) (k1_t147 : Fin (k1_t147_loop v2584 v2586 k1_t146).trips), ∀ a, (k1_off2006 v2584 v2586 k1_t146 k1_t147) a + S1x16.size a ≤ S72x256.size a) ∧
  (∀ k1_t146 : Fin (k1_t146_loop v2584 v2586).trips, (k1_t148_loop v2584 v2586 k1_t146).OK) ∧
  (∀ (k1_t146 : Fin (k1_t146_loop v2584 v2586).trips) (k1_t148 : Fin (k1_t148_loop v2584 v2586 k1_t146).trips), ∀ a, (k1_off2007 v2584 v2586 k1_t146 k1_t148) a + S1x16.size a ≤ S72x256.size a)
def k1_chk15_3 (i : grid1.Coords) (v2584 : BitVec 32) (v2586 : BitVec 32) : Prop :=
  (∀ (k1_t146 : Fin (k1_t146_loop v2584 v2586).trips) (k1_t148 : Fin (k1_t148_loop v2584 v2586 k1_t146).trips), ∀ a, (k1_off2008 v2584 v2586 k1_t146 k1_t148) a + S1x16.size a ≤ S72x256.size a) ∧
  (∀ (k1_t146 : Fin (k1_t146_loop v2584 v2586).trips) (k1_t148 : Fin (k1_t148_loop v2584 v2586 k1_t146).trips), ∀ a, (k1_off2009 v2584 v2586 k1_t146 k1_t148) a + S1x16.size a ≤ S72x256.size a) ∧
  (∀ (k1_t146 : Fin (k1_t146_loop v2584 v2586).trips) (k1_t148 : Fin (k1_t148_loop v2584 v2586 k1_t146).trips), ∀ a, (k1_off2010 v2584 v2586 k1_t146 k1_t148) a + S1x16.size a ≤ S72x256.size a) ∧
  (∀ (k1_t146 : Fin (k1_t146_loop v2584 v2586).trips) (k1_t148 : Fin (k1_t148_loop v2584 v2586 k1_t146).trips), ∀ a, (k1_off2011 v2584 v2586 k1_t146 k1_t148) a + S1x16.size a ≤ S72x256.size a) ∧
  (∀ (k1_t146 : Fin (k1_t146_loop v2584 v2586).trips) (k1_t148 : Fin (k1_t148_loop v2584 v2586 k1_t146).trips), ∀ a, (k1_off2012 v2584 v2586 k1_t146 k1_t148) a + S1x16.size a ≤ S72x256.size a) ∧
  (∀ (k1_t146 : Fin (k1_t146_loop v2584 v2586).trips) (k1_t148 : Fin (k1_t148_loop v2584 v2586 k1_t146).trips), ∀ a, (k1_off2013 v2584 v2586 k1_t146 k1_t148) a + S1x16.size a ≤ S72x256.size a) ∧
  (∀ (k1_t146 : Fin (k1_t146_loop v2584 v2586).trips) (k1_t148 : Fin (k1_t148_loop v2584 v2586 k1_t146).trips), ∀ a, (k1_off2014 v2584 v2586 k1_t146 k1_t148) a + S1x16.size a ≤ S72x256.size a) ∧
  (∀ (k1_t146 : Fin (k1_t146_loop v2584 v2586).trips) (k1_t148 : Fin (k1_t148_loop v2584 v2586 k1_t146).trips), ∀ a, (k1_off2015 v2584 v2586 k1_t146 k1_t148) a + S1x16.size a ≤ S72x256.size a) ∧
  (∀ (k1_t146 : Fin (k1_t146_loop v2584 v2586).trips) (k1_t148 : Fin (k1_t148_loop v2584 v2586 k1_t146).trips), ∀ a, (k1_off2016 v2584 v2586 k1_t146 k1_t148) a + S1x16.size a ≤ S72x256.size a) ∧
  (∀ (k1_t146 : Fin (k1_t146_loop v2584 v2586).trips) (k1_t148 : Fin (k1_t148_loop v2584 v2586 k1_t146).trips), ∀ a, (k1_off2017 v2584 v2586 k1_t146 k1_t148) a + S1x16.size a ≤ S72x256.size a) ∧
  (∀ (k1_t146 : Fin (k1_t146_loop v2584 v2586).trips) (k1_t148 : Fin (k1_t148_loop v2584 v2586 k1_t146).trips), ∀ a, (k1_off2018 v2584 v2586 k1_t146 k1_t148) a + S1x16.size a ≤ S72x256.size a) ∧
  (∀ (k1_t146 : Fin (k1_t146_loop v2584 v2586).trips) (k1_t148 : Fin (k1_t148_loop v2584 v2586 k1_t146).trips), ∀ a, (k1_off2019 v2584 v2586 k1_t146 k1_t148) a + S1x16.size a ≤ S72x256.size a) ∧
  (∀ (k1_t146 : Fin (k1_t146_loop v2584 v2586).trips) (k1_t148 : Fin (k1_t148_loop v2584 v2586 k1_t146).trips), ∀ a, (k1_off2020 v2584 v2586 k1_t146 k1_t148) a + S1x16.size a ≤ S72x256.size a) ∧
  (∀ (k1_t146 : Fin (k1_t146_loop v2584 v2586).trips) (k1_t148 : Fin (k1_t148_loop v2584 v2586 k1_t146).trips), ∀ a, (k1_off2021 v2584 v2586 k1_t146 k1_t148) a + S1x16.size a ≤ S72x256.size a) ∧
  (∀ (k1_t146 : Fin (k1_t146_loop v2584 v2586).trips) (k1_t148 : Fin (k1_t148_loop v2584 v2586 k1_t146).trips), ∀ a, (k1_off2022 v2584 v2586 k1_t146 k1_t148) a + S1x16.size a ≤ S72x256.size a) ∧
  (∀ k1_t146 : Fin (k1_t146_loop v2584 v2586).trips, ∀ (k1_h134 : k1_cond134 v2584 v2586 k1_t146 = 1#1), ∀ a, (k1_off2023 i v2584 v2586 k1_t146) a + S72x256.size a ≤ S100000x512.size a) ∧
  (∀ k1_t146 : Fin (k1_t146_loop v2584 v2586).trips, ∀ (k1_h134 : k1_cond134 v2584 v2586 k1_t146 = 1#1), ∀ (k1_h135 : k1_cond135 v2584 v2586 k1_t146 = 1#1), ∀ a, (k1_off2024 i v2584 v2586 k1_t146) a + S72x256.size a ≤ S100000x512.size a) ∧
  (∀ k1_t146 : Fin (k1_t146_loop v2584 v2586).trips, (k1_t149_loop v2584 v2586 k1_t146).OK) ∧
  (∀ (k1_t146 : Fin (k1_t146_loop v2584 v2586).trips) (k1_t149 : Fin (k1_t149_loop v2584 v2586 k1_t146).trips), ∀ a, (k1_off2025 v2584 v2586 k1_t146 k1_t149) a + S1x16.size a ≤ S72x256.size a) ∧
  (∀ (k1_t146 : Fin (k1_t146_loop v2584 v2586).trips) (k1_t149 : Fin (k1_t149_loop v2584 v2586 k1_t146).trips), ∀ a, (k1_off2026 v2584 v2586 k1_t146 k1_t149) a + S1x16.size a ≤ S72x256.size a) ∧
  (∀ (k1_t146 : Fin (k1_t146_loop v2584 v2586).trips) (k1_t149 : Fin (k1_t149_loop v2584 v2586 k1_t146).trips), ∀ a, (k1_off2027 v2584 v2586 k1_t146 k1_t149) a + S1x16.size a ≤ S72x256.size a) ∧
  (∀ (k1_t146 : Fin (k1_t146_loop v2584 v2586).trips) (k1_t149 : Fin (k1_t149_loop v2584 v2586 k1_t146).trips), ∀ a, (k1_off2028 v2584 v2586 k1_t146 k1_t149) a + S1x16.size a ≤ S72x256.size a) ∧
  (∀ (k1_t146 : Fin (k1_t146_loop v2584 v2586).trips) (k1_t149 : Fin (k1_t149_loop v2584 v2586 k1_t146).trips), ∀ a, (k1_off2029 v2584 v2586 k1_t146 k1_t149) a + S1x16.size a ≤ S72x256.size a) ∧
  (∀ (k1_t146 : Fin (k1_t146_loop v2584 v2586).trips) (k1_t149 : Fin (k1_t149_loop v2584 v2586 k1_t146).trips), ∀ a, (k1_off2030 v2584 v2586 k1_t146 k1_t149) a + S1x16.size a ≤ S72x256.size a) ∧
  (∀ (k1_t146 : Fin (k1_t146_loop v2584 v2586).trips) (k1_t149 : Fin (k1_t149_loop v2584 v2586 k1_t146).trips), ∀ a, (k1_off2031 v2584 v2586 k1_t146 k1_t149) a + S1x16.size a ≤ S72x256.size a) ∧
  (∀ (k1_t146 : Fin (k1_t146_loop v2584 v2586).trips) (k1_t149 : Fin (k1_t149_loop v2584 v2586 k1_t146).trips), ∀ a, (k1_off2032 v2584 v2586 k1_t146 k1_t149) a + S1x16.size a ≤ S72x256.size a) ∧
  (∀ (k1_t146 : Fin (k1_t146_loop v2584 v2586).trips) (k1_t149 : Fin (k1_t149_loop v2584 v2586 k1_t146).trips), ∀ a, (k1_off2033 v2584 v2586 k1_t146 k1_t149) a + S1x16.size a ≤ S72x256.size a) ∧
  (∀ (k1_t146 : Fin (k1_t146_loop v2584 v2586).trips) (k1_t149 : Fin (k1_t149_loop v2584 v2586 k1_t146).trips), ∀ a, (k1_off2034 v2584 v2586 k1_t146 k1_t149) a + S1x16.size a ≤ S72x256.size a) ∧
  (∀ (k1_t146 : Fin (k1_t146_loop v2584 v2586).trips) (k1_t149 : Fin (k1_t149_loop v2584 v2586 k1_t146).trips), ∀ a, (k1_off2035 v2584 v2586 k1_t146 k1_t149) a + S1x16.size a ≤ S72x256.size a) ∧
  (∀ (k1_t146 : Fin (k1_t146_loop v2584 v2586).trips) (k1_t149 : Fin (k1_t149_loop v2584 v2586 k1_t146).trips), ∀ a, (k1_off2036 v2584 v2586 k1_t146 k1_t149) a + S1x16.size a ≤ S72x256.size a) ∧
  (∀ (k1_t146 : Fin (k1_t146_loop v2584 v2586).trips) (k1_t149 : Fin (k1_t149_loop v2584 v2586 k1_t146).trips), ∀ a, (k1_off2037 v2584 v2586 k1_t146 k1_t149) a + S1x16.size a ≤ S72x256.size a) ∧
  (∀ (k1_t146 : Fin (k1_t146_loop v2584 v2586).trips) (k1_t149 : Fin (k1_t149_loop v2584 v2586 k1_t146).trips), ∀ a, (k1_off2038 v2584 v2586 k1_t146 k1_t149) a + S1x16.size a ≤ S72x256.size a)
def k1_chk15_4 (i : grid1.Coords) (v2584 : BitVec 32) (v2586 : BitVec 32) : Prop :=
  (∀ (k1_t146 : Fin (k1_t146_loop v2584 v2586).trips) (k1_t149 : Fin (k1_t149_loop v2584 v2586 k1_t146).trips), ∀ a, (k1_off2039 v2584 v2586 k1_t146 k1_t149) a + S1x16.size a ≤ S72x256.size a) ∧
  (∀ (k1_t146 : Fin (k1_t146_loop v2584 v2586).trips) (k1_t149 : Fin (k1_t149_loop v2584 v2586 k1_t146).trips), ∀ a, (k1_off2040 v2584 v2586 k1_t146 k1_t149) a + S1x16.size a ≤ S72x256.size a) ∧
  (∀ k1_t146 : Fin (k1_t146_loop v2584 v2586).trips, (k1_t150_loop v2584 v2586 k1_t146).OK) ∧
  (∀ (k1_t146 : Fin (k1_t146_loop v2584 v2586).trips) (k1_t150 : Fin (k1_t150_loop v2584 v2586 k1_t146).trips), ∀ a, (k1_off2041 v2584 v2586 k1_t146 k1_t150) a + S1x16.size a ≤ S72x256.size a) ∧
  (∀ (k1_t146 : Fin (k1_t146_loop v2584 v2586).trips) (k1_t150 : Fin (k1_t150_loop v2584 v2586 k1_t146).trips), ∀ a, (k1_off2042 v2584 v2586 k1_t146 k1_t150) a + S1x16.size a ≤ S72x256.size a) ∧
  (∀ (k1_t146 : Fin (k1_t146_loop v2584 v2586).trips) (k1_t150 : Fin (k1_t150_loop v2584 v2586 k1_t146).trips), ∀ a, (k1_off2043 v2584 v2586 k1_t146 k1_t150) a + S1x16.size a ≤ S72x256.size a) ∧
  (∀ (k1_t146 : Fin (k1_t146_loop v2584 v2586).trips) (k1_t150 : Fin (k1_t150_loop v2584 v2586 k1_t146).trips), ∀ a, (k1_off2044 v2584 v2586 k1_t146 k1_t150) a + S1x16.size a ≤ S72x256.size a) ∧
  (∀ (k1_t146 : Fin (k1_t146_loop v2584 v2586).trips) (k1_t150 : Fin (k1_t150_loop v2584 v2586 k1_t146).trips), ∀ a, (k1_off2045 v2584 v2586 k1_t146 k1_t150) a + S1x16.size a ≤ S72x256.size a) ∧
  (∀ (k1_t146 : Fin (k1_t146_loop v2584 v2586).trips) (k1_t150 : Fin (k1_t150_loop v2584 v2586 k1_t146).trips), ∀ a, (k1_off2046 v2584 v2586 k1_t146 k1_t150) a + S1x16.size a ≤ S72x256.size a) ∧
  (∀ (k1_t146 : Fin (k1_t146_loop v2584 v2586).trips) (k1_t150 : Fin (k1_t150_loop v2584 v2586 k1_t146).trips), ∀ a, (k1_off2047 v2584 v2586 k1_t146 k1_t150) a + S1x16.size a ≤ S72x256.size a) ∧
  (∀ (k1_t146 : Fin (k1_t146_loop v2584 v2586).trips) (k1_t150 : Fin (k1_t150_loop v2584 v2586 k1_t146).trips), ∀ a, (k1_off2048 v2584 v2586 k1_t146 k1_t150) a + S1x16.size a ≤ S72x256.size a) ∧
  (∀ (k1_t146 : Fin (k1_t146_loop v2584 v2586).trips) (k1_t150 : Fin (k1_t150_loop v2584 v2586 k1_t146).trips), ∀ a, (k1_off2049 v2584 v2586 k1_t146 k1_t150) a + S1x16.size a ≤ S72x256.size a) ∧
  (∀ (k1_t146 : Fin (k1_t146_loop v2584 v2586).trips) (k1_t150 : Fin (k1_t150_loop v2584 v2586 k1_t146).trips), ∀ a, (k1_off2050 v2584 v2586 k1_t146 k1_t150) a + S1x16.size a ≤ S72x256.size a) ∧
  (∀ (k1_t146 : Fin (k1_t146_loop v2584 v2586).trips) (k1_t150 : Fin (k1_t150_loop v2584 v2586 k1_t146).trips), ∀ a, (k1_off2051 v2584 v2586 k1_t146 k1_t150) a + S1x16.size a ≤ S72x256.size a) ∧
  (∀ (k1_t146 : Fin (k1_t146_loop v2584 v2586).trips) (k1_t150 : Fin (k1_t150_loop v2584 v2586 k1_t146).trips), ∀ a, (k1_off2052 v2584 v2586 k1_t146 k1_t150) a + S1x16.size a ≤ S72x256.size a) ∧
  (∀ (k1_t146 : Fin (k1_t146_loop v2584 v2586).trips) (k1_t150 : Fin (k1_t150_loop v2584 v2586 k1_t146).trips), ∀ a, (k1_off2053 v2584 v2586 k1_t146 k1_t150) a + S1x16.size a ≤ S72x256.size a) ∧
  (∀ (k1_t146 : Fin (k1_t146_loop v2584 v2586).trips) (k1_t150 : Fin (k1_t150_loop v2584 v2586 k1_t146).trips), ∀ a, (k1_off2054 v2584 v2586 k1_t146 k1_t150) a + S1x16.size a ≤ S72x256.size a) ∧
  (∀ (k1_t146 : Fin (k1_t146_loop v2584 v2586).trips) (k1_t150 : Fin (k1_t150_loop v2584 v2586 k1_t146).trips), ∀ a, (k1_off2055 v2584 v2586 k1_t146 k1_t150) a + S1x16.size a ≤ S72x256.size a) ∧
  (∀ (k1_t146 : Fin (k1_t146_loop v2584 v2586).trips) (k1_t150 : Fin (k1_t150_loop v2584 v2586 k1_t146).trips), ∀ a, (k1_off2056 v2584 v2586 k1_t146 k1_t150) a + S1x16.size a ≤ S72x256.size a)
def k1_chk15 (i : grid1.Coords) (v2584 : BitVec 32) (v2586 : BitVec 32) : Prop :=
  k1_chk15_0 i v2584 v2586 ∧
  k1_chk15_1 i v2584 v2586 ∧
  k1_chk15_2 i v2584 v2586 ∧
  k1_chk15_3 i v2584 v2586 ∧
  k1_chk15_4 i v2584 v2586
theorem k1_off1920_inb : ∀ (i : grid1.Coords) (v2584 : BitVec 32) (v2586 : BitVec 32) (k1_hw15 : k1_chk15 i v2584 v2586), ∀ (k1_h127 : k1_cond127 v2584 v2586 = 1#1), ∀ a, (k1_off1920 i v2584) a + S72x256.size a ≤ S100000x512.size a := fun i v2584 v2586 k1_hw15 k1_h127 => k1_hw15.1.1 k1_h127
theorem k1_t141_ok : ∀ (i : grid1.Coords) (v2584 : BitVec 32) (v2586 : BitVec 32) (k1_hw15 : k1_chk15 i v2584 v2586), (k1_t141_loop v2584 v2586).OK := fun i v2584 v2586 k1_hw15 => k1_hw15.1.2.1
theorem k1_off1921_inb : ∀ (i : grid1.Coords) (v2584 : BitVec 32) (v2586 : BitVec 32) (k1_hw15 : k1_chk15 i v2584 v2586) (k1_t141 : Fin (k1_t141_loop v2584 v2586).trips), ∀ (k1_h128 : k1_cond128 v2584 v2586 k1_t141 = 1#1), ∀ a, (k1_off1921 i v2584 v2586 k1_t141) a + S72x256.size a ≤ S100000x512.size a := fun i v2584 v2586 k1_hw15 k1_t141 k1_h128 => k1_hw15.1.2.2.1 k1_t141 k1_h128
theorem k1_off1922_inb : ∀ (i : grid1.Coords) (v2584 : BitVec 32) (v2586 : BitVec 32) (k1_hw15 : k1_chk15 i v2584 v2586) (k1_t141 : Fin (k1_t141_loop v2584 v2586).trips), ∀ (k1_h128 : k1_cond128 v2584 v2586 k1_t141 = 1#1), ∀ (k1_h129 : k1_cond129 v2584 v2586 k1_t141 = 1#1), ∀ a, (k1_off1922 i v2584 v2586 k1_t141) a + S72x256.size a ≤ S100000x512.size a := fun i v2584 v2586 k1_hw15 k1_t141 k1_h128 k1_h129 => k1_hw15.1.2.2.2.1 k1_t141 k1_h128 k1_h129
theorem k1_t142_ok : ∀ (i : grid1.Coords) (v2584 : BitVec 32) (v2586 : BitVec 32) (k1_hw15 : k1_chk15 i v2584 v2586) (k1_t141 : Fin (k1_t141_loop v2584 v2586).trips), (k1_t142_loop v2584 v2586 k1_t141).OK := fun i v2584 v2586 k1_hw15 k1_t141 => k1_hw15.1.2.2.2.2.1 k1_t141
theorem k1_off1923_inb : ∀ (i : grid1.Coords) (v2584 : BitVec 32) (v2586 : BitVec 32) (k1_hw15 : k1_chk15 i v2584 v2586) (k1_t141 : Fin (k1_t141_loop v2584 v2586).trips) (k1_t142 : Fin (k1_t142_loop v2584 v2586 k1_t141).trips), ∀ a, (k1_off1923 v2584 v2586 k1_t141 k1_t142) a + S1x16.size a ≤ S72x256.size a := fun i v2584 v2586 k1_hw15 k1_t141 k1_t142 => k1_hw15.1.2.2.2.2.2.1 k1_t141 k1_t142
theorem k1_off1924_inb : ∀ (i : grid1.Coords) (v2584 : BitVec 32) (v2586 : BitVec 32) (k1_hw15 : k1_chk15 i v2584 v2586) (k1_t141 : Fin (k1_t141_loop v2584 v2586).trips) (k1_t142 : Fin (k1_t142_loop v2584 v2586 k1_t141).trips), ∀ a, (k1_off1924 v2584 v2586 k1_t141 k1_t142) a + S1x16.size a ≤ S72x256.size a := fun i v2584 v2586 k1_hw15 k1_t141 k1_t142 => k1_hw15.1.2.2.2.2.2.2.1 k1_t141 k1_t142
theorem k1_off1925_inb : ∀ (i : grid1.Coords) (v2584 : BitVec 32) (v2586 : BitVec 32) (k1_hw15 : k1_chk15 i v2584 v2586) (k1_t141 : Fin (k1_t141_loop v2584 v2586).trips) (k1_t142 : Fin (k1_t142_loop v2584 v2586 k1_t141).trips), ∀ a, (k1_off1925 v2584 v2586 k1_t141 k1_t142) a + S1x16.size a ≤ S72x256.size a := fun i v2584 v2586 k1_hw15 k1_t141 k1_t142 => k1_hw15.1.2.2.2.2.2.2.2.1 k1_t141 k1_t142
theorem k1_off1926_inb : ∀ (i : grid1.Coords) (v2584 : BitVec 32) (v2586 : BitVec 32) (k1_hw15 : k1_chk15 i v2584 v2586) (k1_t141 : Fin (k1_t141_loop v2584 v2586).trips) (k1_t142 : Fin (k1_t142_loop v2584 v2586 k1_t141).trips), ∀ a, (k1_off1926 v2584 v2586 k1_t141 k1_t142) a + S1x16.size a ≤ S72x256.size a := fun i v2584 v2586 k1_hw15 k1_t141 k1_t142 => k1_hw15.1.2.2.2.2.2.2.2.2.1 k1_t141 k1_t142
theorem k1_off1927_inb : ∀ (i : grid1.Coords) (v2584 : BitVec 32) (v2586 : BitVec 32) (k1_hw15 : k1_chk15 i v2584 v2586) (k1_t141 : Fin (k1_t141_loop v2584 v2586).trips) (k1_t142 : Fin (k1_t142_loop v2584 v2586 k1_t141).trips), ∀ a, (k1_off1927 v2584 v2586 k1_t141 k1_t142) a + S1x16.size a ≤ S72x256.size a := fun i v2584 v2586 k1_hw15 k1_t141 k1_t142 => k1_hw15.1.2.2.2.2.2.2.2.2.2.1 k1_t141 k1_t142
theorem k1_off1928_inb : ∀ (i : grid1.Coords) (v2584 : BitVec 32) (v2586 : BitVec 32) (k1_hw15 : k1_chk15 i v2584 v2586) (k1_t141 : Fin (k1_t141_loop v2584 v2586).trips) (k1_t142 : Fin (k1_t142_loop v2584 v2586 k1_t141).trips), ∀ a, (k1_off1928 v2584 v2586 k1_t141 k1_t142) a + S1x16.size a ≤ S72x256.size a := fun i v2584 v2586 k1_hw15 k1_t141 k1_t142 => k1_hw15.1.2.2.2.2.2.2.2.2.2.2.1 k1_t141 k1_t142
theorem k1_off1929_inb : ∀ (i : grid1.Coords) (v2584 : BitVec 32) (v2586 : BitVec 32) (k1_hw15 : k1_chk15 i v2584 v2586) (k1_t141 : Fin (k1_t141_loop v2584 v2586).trips) (k1_t142 : Fin (k1_t142_loop v2584 v2586 k1_t141).trips), ∀ a, (k1_off1929 v2584 v2586 k1_t141 k1_t142) a + S1x16.size a ≤ S72x256.size a := fun i v2584 v2586 k1_hw15 k1_t141 k1_t142 => k1_hw15.1.2.2.2.2.2.2.2.2.2.2.2.1 k1_t141 k1_t142
theorem k1_off1930_inb : ∀ (i : grid1.Coords) (v2584 : BitVec 32) (v2586 : BitVec 32) (k1_hw15 : k1_chk15 i v2584 v2586) (k1_t141 : Fin (k1_t141_loop v2584 v2586).trips) (k1_t142 : Fin (k1_t142_loop v2584 v2586 k1_t141).trips), ∀ a, (k1_off1930 v2584 v2586 k1_t141 k1_t142) a + S1x16.size a ≤ S72x256.size a := fun i v2584 v2586 k1_hw15 k1_t141 k1_t142 => k1_hw15.1.2.2.2.2.2.2.2.2.2.2.2.2.1 k1_t141 k1_t142
theorem k1_off1931_inb : ∀ (i : grid1.Coords) (v2584 : BitVec 32) (v2586 : BitVec 32) (k1_hw15 : k1_chk15 i v2584 v2586) (k1_t141 : Fin (k1_t141_loop v2584 v2586).trips) (k1_t142 : Fin (k1_t142_loop v2584 v2586 k1_t141).trips), ∀ a, (k1_off1931 v2584 v2586 k1_t141 k1_t142) a + S1x16.size a ≤ S72x256.size a := fun i v2584 v2586 k1_hw15 k1_t141 k1_t142 => k1_hw15.1.2.2.2.2.2.2.2.2.2.2.2.2.2.1 k1_t141 k1_t142
theorem k1_off1932_inb : ∀ (i : grid1.Coords) (v2584 : BitVec 32) (v2586 : BitVec 32) (k1_hw15 : k1_chk15 i v2584 v2586) (k1_t141 : Fin (k1_t141_loop v2584 v2586).trips) (k1_t142 : Fin (k1_t142_loop v2584 v2586 k1_t141).trips), ∀ a, (k1_off1932 v2584 v2586 k1_t141 k1_t142) a + S1x16.size a ≤ S72x256.size a := fun i v2584 v2586 k1_hw15 k1_t141 k1_t142 => k1_hw15.1.2.2.2.2.2.2.2.2.2.2.2.2.2.2.1 k1_t141 k1_t142
theorem k1_off1933_inb : ∀ (i : grid1.Coords) (v2584 : BitVec 32) (v2586 : BitVec 32) (k1_hw15 : k1_chk15 i v2584 v2586) (k1_t141 : Fin (k1_t141_loop v2584 v2586).trips) (k1_t142 : Fin (k1_t142_loop v2584 v2586 k1_t141).trips), ∀ a, (k1_off1933 v2584 v2586 k1_t141 k1_t142) a + S1x16.size a ≤ S72x256.size a := fun i v2584 v2586 k1_hw15 k1_t141 k1_t142 => k1_hw15.1.2.2.2.2.2.2.2.2.2.2.2.2.2.2.2.1 k1_t141 k1_t142
theorem k1_off1934_inb : ∀ (i : grid1.Coords) (v2584 : BitVec 32) (v2586 : BitVec 32) (k1_hw15 : k1_chk15 i v2584 v2586) (k1_t141 : Fin (k1_t141_loop v2584 v2586).trips) (k1_t142 : Fin (k1_t142_loop v2584 v2586 k1_t141).trips), ∀ a, (k1_off1934 v2584 v2586 k1_t141 k1_t142) a + S1x16.size a ≤ S72x256.size a := fun i v2584 v2586 k1_hw15 k1_t141 k1_t142 => k1_hw15.1.2.2.2.2.2.2.2.2.2.2.2.2.2.2.2.2.1 k1_t141 k1_t142
theorem k1_off1935_inb : ∀ (i : grid1.Coords) (v2584 : BitVec 32) (v2586 : BitVec 32) (k1_hw15 : k1_chk15 i v2584 v2586) (k1_t141 : Fin (k1_t141_loop v2584 v2586).trips) (k1_t142 : Fin (k1_t142_loop v2584 v2586 k1_t141).trips), ∀ a, (k1_off1935 v2584 v2586 k1_t141 k1_t142) a + S1x16.size a ≤ S72x256.size a := fun i v2584 v2586 k1_hw15 k1_t141 k1_t142 => k1_hw15.1.2.2.2.2.2.2.2.2.2.2.2.2.2.2.2.2.2.1 k1_t141 k1_t142
theorem k1_off1936_inb : ∀ (i : grid1.Coords) (v2584 : BitVec 32) (v2586 : BitVec 32) (k1_hw15 : k1_chk15 i v2584 v2586) (k1_t141 : Fin (k1_t141_loop v2584 v2586).trips) (k1_t142 : Fin (k1_t142_loop v2584 v2586 k1_t141).trips), ∀ a, (k1_off1936 v2584 v2586 k1_t141 k1_t142) a + S1x16.size a ≤ S72x256.size a := fun i v2584 v2586 k1_hw15 k1_t141 k1_t142 => k1_hw15.1.2.2.2.2.2.2.2.2.2.2.2.2.2.2.2.2.2.2.1 k1_t141 k1_t142
theorem k1_off1937_inb : ∀ (i : grid1.Coords) (v2584 : BitVec 32) (v2586 : BitVec 32) (k1_hw15 : k1_chk15 i v2584 v2586) (k1_t141 : Fin (k1_t141_loop v2584 v2586).trips) (k1_t142 : Fin (k1_t142_loop v2584 v2586 k1_t141).trips), ∀ a, (k1_off1937 v2584 v2586 k1_t141 k1_t142) a + S1x16.size a ≤ S72x256.size a := fun i v2584 v2586 k1_hw15 k1_t141 k1_t142 => k1_hw15.1.2.2.2.2.2.2.2.2.2.2.2.2.2.2.2.2.2.2.2.1 k1_t141 k1_t142
theorem k1_off1938_inb : ∀ (i : grid1.Coords) (v2584 : BitVec 32) (v2586 : BitVec 32) (k1_hw15 : k1_chk15 i v2584 v2586) (k1_t141 : Fin (k1_t141_loop v2584 v2586).trips) (k1_t142 : Fin (k1_t142_loop v2584 v2586 k1_t141).trips), ∀ a, (k1_off1938 v2584 v2586 k1_t141 k1_t142) a + S1x16.size a ≤ S72x256.size a := fun i v2584 v2586 k1_hw15 k1_t141 k1_t142 => k1_hw15.1.2.2.2.2.2.2.2.2.2.2.2.2.2.2.2.2.2.2.2.2.1 k1_t141 k1_t142
theorem k1_t143_ok : ∀ (i : grid1.Coords) (v2584 : BitVec 32) (v2586 : BitVec 32) (k1_hw15 : k1_chk15 i v2584 v2586) (k1_t141 : Fin (k1_t141_loop v2584 v2586).trips), (k1_t143_loop v2584 v2586 k1_t141).OK := fun i v2584 v2586 k1_hw15 k1_t141 => k1_hw15.1.2.2.2.2.2.2.2.2.2.2.2.2.2.2.2.2.2.2.2.2.2.1 k1_t141
theorem k1_off1939_inb : ∀ (i : grid1.Coords) (v2584 : BitVec 32) (v2586 : BitVec 32) (k1_hw15 : k1_chk15 i v2584 v2586) (k1_t141 : Fin (k1_t141_loop v2584 v2586).trips) (k1_t143 : Fin (k1_t143_loop v2584 v2586 k1_t141).trips), ∀ a, (k1_off1939 v2584 v2586 k1_t141 k1_t143) a + S1x16.size a ≤ S72x256.size a := fun i v2584 v2586 k1_hw15 k1_t141 k1_t143 => k1_hw15.1.2.2.2.2.2.2.2.2.2.2.2.2.2.2.2.2.2.2.2.2.2.2.1 k1_t141 k1_t143
theorem k1_off1940_inb : ∀ (i : grid1.Coords) (v2584 : BitVec 32) (v2586 : BitVec 32) (k1_hw15 : k1_chk15 i v2584 v2586) (k1_t141 : Fin (k1_t141_loop v2584 v2586).trips) (k1_t143 : Fin (k1_t143_loop v2584 v2586 k1_t141).trips), ∀ a, (k1_off1940 v2584 v2586 k1_t141 k1_t143) a + S1x16.size a ≤ S72x256.size a := fun i v2584 v2586 k1_hw15 k1_t141 k1_t143 => k1_hw15.1.2.2.2.2.2.2.2.2.2.2.2.2.2.2.2.2.2.2.2.2.2.2.2.1 k1_t141 k1_t143
theorem k1_off1941_inb : ∀ (i : grid1.Coords) (v2584 : BitVec 32) (v2586 : BitVec 32) (k1_hw15 : k1_chk15 i v2584 v2586) (k1_t141 : Fin (k1_t141_loop v2584 v2586).trips) (k1_t143 : Fin (k1_t143_loop v2584 v2586 k1_t141).trips), ∀ a, (k1_off1941 v2584 v2586 k1_t141 k1_t143) a + S1x16.size a ≤ S72x256.size a := fun i v2584 v2586 k1_hw15 k1_t141 k1_t143 => k1_hw15.1.2.2.2.2.2.2.2.2.2.2.2.2.2.2.2.2.2.2.2.2.2.2.2.2.1 k1_t141 k1_t143
theorem k1_off1942_inb : ∀ (i : grid1.Coords) (v2584 : BitVec 32) (v2586 : BitVec 32) (k1_hw15 : k1_chk15 i v2584 v2586) (k1_t141 : Fin (k1_t141_loop v2584 v2586).trips) (k1_t143 : Fin (k1_t143_loop v2584 v2586 k1_t141).trips), ∀ a, (k1_off1942 v2584 v2586 k1_t141 k1_t143) a + S1x16.size a ≤ S72x256.size a := fun i v2584 v2586 k1_hw15 k1_t141 k1_t143 => k1_hw15.1.2.2.2.2.2.2.2.2.2.2.2.2.2.2.2.2.2.2.2.2.2.2.2.2.2.1 k1_t141 k1_t143
theorem k1_off1943_inb : ∀ (i : grid1.Coords) (v2584 : BitVec 32) (v2586 : BitVec 32) (k1_hw15 : k1_chk15 i v2584 v2586) (k1_t141 : Fin (k1_t141_loop v2584 v2586).trips) (k1_t143 : Fin (k1_t143_loop v2584 v2586 k1_t141).trips), ∀ a, (k1_off1943 v2584 v2586 k1_t141 k1_t143) a + S1x16.size a ≤ S72x256.size a := fun i v2584 v2586 k1_hw15 k1_t141 k1_t143 => k1_hw15.1.2.2.2.2.2.2.2.2.2.2.2.2.2.2.2.2.2.2.2.2.2.2.2.2.2.2.1 k1_t141 k1_t143
theorem k1_off1944_inb : ∀ (i : grid1.Coords) (v2584 : BitVec 32) (v2586 : BitVec 32) (k1_hw15 : k1_chk15 i v2584 v2586) (k1_t141 : Fin (k1_t141_loop v2584 v2586).trips) (k1_t143 : Fin (k1_t143_loop v2584 v2586 k1_t141).trips), ∀ a, (k1_off1944 v2584 v2586 k1_t141 k1_t143) a + S1x16.size a ≤ S72x256.size a := fun i v2584 v2586 k1_hw15 k1_t141 k1_t143 => k1_hw15.1.2.2.2.2.2.2.2.2.2.2.2.2.2.2.2.2.2.2.2.2.2.2.2.2.2.2.2.1 k1_t141 k1_t143
theorem k1_off1945_inb : ∀ (i : grid1.Coords) (v2584 : BitVec 32) (v2586 : BitVec 32) (k1_hw15 : k1_chk15 i v2584 v2586) (k1_t141 : Fin (k1_t141_loop v2584 v2586).trips) (k1_t143 : Fin (k1_t143_loop v2584 v2586 k1_t141).trips), ∀ a, (k1_off1945 v2584 v2586 k1_t141 k1_t143) a + S1x16.size a ≤ S72x256.size a := fun i v2584 v2586 k1_hw15 k1_t141 k1_t143 => k1_hw15.1.2.2.2.2.2.2.2.2.2.2.2.2.2.2.2.2.2.2.2.2.2.2.2.2.2.2.2.2.1 k1_t141 k1_t143
theorem k1_off1946_inb : ∀ (i : grid1.Coords) (v2584 : BitVec 32) (v2586 : BitVec 32) (k1_hw15 : k1_chk15 i v2584 v2586) (k1_t141 : Fin (k1_t141_loop v2584 v2586).trips) (k1_t143 : Fin (k1_t143_loop v2584 v2586 k1_t141).trips), ∀ a, (k1_off1946 v2584 v2586 k1_t141 k1_t143) a + S1x16.size a ≤ S72x256.size a := fun i v2584 v2586 k1_hw15 k1_t141 k1_t143 => k1_hw15.1.2.2.2.2.2.2.2.2.2.2.2.2.2.2.2.2.2.2.2.2.2.2.2.2.2.2.2.2.2.1 k1_t141 k1_t143
theorem k1_off1947_inb : ∀ (i : grid1.Coords) (v2584 : BitVec 32) (v2586 : BitVec 32) (k1_hw15 : k1_chk15 i v2584 v2586) (k1_t141 : Fin (k1_t141_loop v2584 v2586).trips) (k1_t143 : Fin (k1_t143_loop v2584 v2586 k1_t141).trips), ∀ a, (k1_off1947 v2584 v2586 k1_t141 k1_t143) a + S1x16.size a ≤ S72x256.size a := fun i v2584 v2586 k1_hw15 k1_t141 k1_t143 => k1_hw15.1.2.2.2.2.2.2.2.2.2.2.2.2.2.2.2.2.2.2.2.2.2.2.2.2.2.2.2.2.2.2.1 k1_t141 k1_t143
theorem k1_off1948_inb : ∀ (i : grid1.Coords) (v2584 : BitVec 32) (v2586 : BitVec 32) (k1_hw15 : k1_chk15 i v2584 v2586) (k1_t141 : Fin (k1_t141_loop v2584 v2586).trips) (k1_t143 : Fin (k1_t143_loop v2584 v2586 k1_t141).trips), ∀ a, (k1_off1948 v2584 v2586 k1_t141 k1_t143) a + S1x16.size a ≤ S72x256.size a := fun i v2584 v2586 k1_hw15 k1_t141 k1_t143 => k1_hw15.1.2.2.2.2.2.2.2.2.2.2.2.2.2.2.2.2.2.2.2.2.2.2.2.2.2.2.2.2.2.2.2 k1_t141 k1_t143
theorem k1_off1949_inb : ∀ (i : grid1.Coords) (v2584 : BitVec 32) (v2586 : BitVec 32) (k1_hw15 : k1_chk15 i v2584 v2586) (k1_t141 : Fin (k1_t141_loop v2584 v2586).trips) (k1_t143 : Fin (k1_t143_loop v2584 v2586 k1_t141).trips), ∀ a, (k1_off1949 v2584 v2586 k1_t141 k1_t143) a + S1x16.size a ≤ S72x256.size a := fun i v2584 v2586 k1_hw15 k1_t141 k1_t143 => k1_hw15.2.1.1 k1_t141 k1_t143
theorem k1_off1950_inb : ∀ (i : grid1.Coords) (v2584 : BitVec 32) (v2586 : BitVec 32) (k1_hw15 : k1_chk15 i v2584 v2586) (k1_t141 : Fin (k1_t141_loop v2584 v2586).trips) (k1_t143 : Fin (k1_t143_loop v2584 v2586 k1_t141).trips), ∀ a, (k1_off1950 v2584 v2586 k1_t141 k1_t143) a + S1x16.size a ≤ S72x256.size a := fun i v2584 v2586 k1_hw15 k1_t141 k1_t143 => k1_hw15.2.1.2.1 k1_t141 k1_t143
theorem k1_off1951_inb : ∀ (i : grid1.Coords) (v2584 : BitVec 32) (v2586 : BitVec 32) (k1_hw15 : k1_chk15 i v2584 v2586) (k1_t141 : Fin (k1_t141_loop v2584 v2586).trips) (k1_t143 : Fin (k1_t143_loop v2584 v2586 k1_t141).trips), ∀ a, (k1_off1951 v2584 v2586 k1_t141 k1_t143) a + S1x16.size a ≤ S72x256.size a := fun i v2584 v2586 k1_hw15 k1_t141 k1_t143 => k1_hw15.2.1.2.2.1 k1_t141 k1_t143
theorem k1_off1952_inb : ∀ (i : grid1.Coords) (v2584 : BitVec 32) (v2586 : BitVec 32) (k1_hw15 : k1_chk15 i v2584 v2586) (k1_t141 : Fin (k1_t141_loop v2584 v2586).trips) (k1_t143 : Fin (k1_t143_loop v2584 v2586 k1_t141).trips), ∀ a, (k1_off1952 v2584 v2586 k1_t141 k1_t143) a + S1x16.size a ≤ S72x256.size a := fun i v2584 v2586 k1_hw15 k1_t141 k1_t143 => k1_hw15.2.1.2.2.2.1 k1_t141 k1_t143
theorem k1_off1953_inb : ∀ (i : grid1.Coords) (v2584 : BitVec 32) (v2586 : BitVec 32) (k1_hw15 : k1_chk15 i v2584 v2586) (k1_t141 : Fin (k1_t141_loop v2584 v2586).trips) (k1_t143 : Fin (k1_t143_loop v2584 v2586 k1_t141).trips), ∀ a, (k1_off1953 v2584 v2586 k1_t141 k1_t143) a + S1x16.size a ≤ S72x256.size a := fun i v2584 v2586 k1_hw15 k1_t141 k1_t143 => k1_hw15.2.1.2.2.2.2.1 k1_t141 k1_t143
theorem k1_off1954_inb : ∀ (i : grid1.Coords) (v2584 : BitVec 32) (v2586 : BitVec 32) (k1_hw15 : k1_chk15 i v2584 v2586) (k1_t141 : Fin (k1_t141_loop v2584 v2586).trips) (k1_t143 : Fin (k1_t143_loop v2584 v2586 k1_t141).trips), ∀ a, (k1_off1954 v2584 v2586 k1_t141 k1_t143) a + S1x16.size a ≤ S72x256.size a := fun i v2584 v2586 k1_hw15 k1_t141 k1_t143 => k1_hw15.2.1.2.2.2.2.2.1 k1_t141 k1_t143
theorem k1_off1955_inb : ∀ (i : grid1.Coords) (v2584 : BitVec 32) (v2586 : BitVec 32) (k1_hw15 : k1_chk15 i v2584 v2586) (k1_t141 : Fin (k1_t141_loop v2584 v2586).trips), ∀ (k1_h130 : k1_cond130 v2584 v2586 k1_t141 = 1#1), ∀ a, (k1_off1955 i v2584 v2586 k1_t141) a + S72x256.size a ≤ S100000x512.size a := fun i v2584 v2586 k1_hw15 k1_t141 k1_h130 => k1_hw15.2.1.2.2.2.2.2.2.1 k1_t141 k1_h130
theorem k1_off1956_inb : ∀ (i : grid1.Coords) (v2584 : BitVec 32) (v2586 : BitVec 32) (k1_hw15 : k1_chk15 i v2584 v2586) (k1_t141 : Fin (k1_t141_loop v2584 v2586).trips), ∀ (k1_h130 : k1_cond130 v2584 v2586 k1_t141 = 1#1), ∀ (k1_h131 : k1_cond131 v2584 v2586 k1_t141 = 1#1), ∀ a, (k1_off1956 i v2584 v2586 k1_t141) a + S72x256.size a ≤ S100000x512.size a := fun i v2584 v2586 k1_hw15 k1_t141 k1_h130 k1_h131 => k1_hw15.2.1.2.2.2.2.2.2.2.1 k1_t141 k1_h130 k1_h131
theorem k1_t144_ok : ∀ (i : grid1.Coords) (v2584 : BitVec 32) (v2586 : BitVec 32) (k1_hw15 : k1_chk15 i v2584 v2586) (k1_t141 : Fin (k1_t141_loop v2584 v2586).trips), (k1_t144_loop v2584 v2586 k1_t141).OK := fun i v2584 v2586 k1_hw15 k1_t141 => k1_hw15.2.1.2.2.2.2.2.2.2.2.1 k1_t141
theorem k1_off1957_inb : ∀ (i : grid1.Coords) (v2584 : BitVec 32) (v2586 : BitVec 32) (k1_hw15 : k1_chk15 i v2584 v2586) (k1_t141 : Fin (k1_t141_loop v2584 v2586).trips) (k1_t144 : Fin (k1_t144_loop v2584 v2586 k1_t141).trips), ∀ a, (k1_off1957 v2584 v2586 k1_t141 k1_t144) a + S1x16.size a ≤ S72x256.size a := fun i v2584 v2586 k1_hw15 k1_t141 k1_t144 => k1_hw15.2.1.2.2.2.2.2.2.2.2.2.1 k1_t141 k1_t144
theorem k1_off1958_inb : ∀ (i : grid1.Coords) (v2584 : BitVec 32) (v2586 : BitVec 32) (k1_hw15 : k1_chk15 i v2584 v2586) (k1_t141 : Fin (k1_t141_loop v2584 v2586).trips) (k1_t144 : Fin (k1_t144_loop v2584 v2586 k1_t141).trips), ∀ a, (k1_off1958 v2584 v2586 k1_t141 k1_t144) a + S1x16.size a ≤ S72x256.size a := fun i v2584 v2586 k1_hw15 k1_t141 k1_t144 => k1_hw15.2.1.2.2.2.2.2.2.2.2.2.2.1 k1_t141 k1_t144
theorem k1_off1959_inb : ∀ (i : grid1.Coords) (v2584 : BitVec 32) (v2586 : BitVec 32) (k1_hw15 : k1_chk15 i v2584 v2586) (k1_t141 : Fin (k1_t141_loop v2584 v2586).trips) (k1_t144 : Fin (k1_t144_loop v2584 v2586 k1_t141).trips), ∀ a, (k1_off1959 v2584 v2586 k1_t141 k1_t144) a + S1x16.size a ≤ S72x256.size a := fun i v2584 v2586 k1_hw15 k1_t141 k1_t144 => k1_hw15.2.1.2.2.2.2.2.2.2.2.2.2.2.1 k1_t141 k1_t144
theorem k1_off1960_inb : ∀ (i : grid1.Coords) (v2584 : BitVec 32) (v2586 : BitVec 32) (k1_hw15 : k1_chk15 i v2584 v2586) (k1_t141 : Fin (k1_t141_loop v2584 v2586).trips) (k1_t144 : Fin (k1_t144_loop v2584 v2586 k1_t141).trips), ∀ a, (k1_off1960 v2584 v2586 k1_t141 k1_t144) a + S1x16.size a ≤ S72x256.size a := fun i v2584 v2586 k1_hw15 k1_t141 k1_t144 => k1_hw15.2.1.2.2.2.2.2.2.2.2.2.2.2.2.1 k1_t141 k1_t144
theorem k1_off1961_inb : ∀ (i : grid1.Coords) (v2584 : BitVec 32) (v2586 : BitVec 32) (k1_hw15 : k1_chk15 i v2584 v2586) (k1_t141 : Fin (k1_t141_loop v2584 v2586).trips) (k1_t144 : Fin (k1_t144_loop v2584 v2586 k1_t141).trips), ∀ a, (k1_off1961 v2584 v2586 k1_t141 k1_t144) a + S1x16.size a ≤ S72x256.size a := fun i v2584 v2586 k1_hw15 k1_t141 k1_t144 => k1_hw15.2.1.2.2.2.2.2.2.2.2.2.2.2.2.2.1 k1_t141 k1_t144
theorem k1_off1962_inb : ∀ (i : grid1.Coords) (v2584 : BitVec 32) (v2586 : BitVec 32) (k1_hw15 : k1_chk15 i v2584 v2586) (k1_t141 : Fin (k1_t141_loop v2584 v2586).trips) (k1_t144 : Fin (k1_t144_loop v2584 v2586 k1_t141).trips), ∀ a, (k1_off1962 v2584 v2586 k1_t141 k1_t144) a + S1x16.size a ≤ S72x256.size a := fun i v2584 v2586 k1_hw15 k1_t141 k1_t144 => k1_hw15.2.1.2.2.2.2.2.2.2.2.2.2.2.2.2.2.1 k1_t141 k1_t144
theorem k1_off1963_inb : ∀ (i : grid1.Coords) (v2584 : BitVec 32) (v2586 : BitVec 32) (k1_hw15 : k1_chk15 i v2584 v2586) (k1_t141 : Fin (k1_t141_loop v2584 v2586).trips) (k1_t144 : Fin (k1_t144_loop v2584 v2586 k1_t141).trips), ∀ a, (k1_off1963 v2584 v2586 k1_t141 k1_t144) a + S1x16.size a ≤ S72x256.size a := fun i v2584 v2586 k1_hw15 k1_t141 k1_t144 => k1_hw15.2.1.2.2.2.2.2.2.2.2.2.2.2.2.2.2.2.1 k1_t141 k1_t144
theorem k1_off1964_inb : ∀ (i : grid1.Coords) (v2584 : BitVec 32) (v2586 : BitVec 32) (k1_hw15 : k1_chk15 i v2584 v2586) (k1_t141 : Fin (k1_t141_loop v2584 v2586).trips) (k1_t144 : Fin (k1_t144_loop v2584 v2586 k1_t141).trips), ∀ a, (k1_off1964 v2584 v2586 k1_t141 k1_t144) a + S1x16.size a ≤ S72x256.size a := fun i v2584 v2586 k1_hw15 k1_t141 k1_t144 => k1_hw15.2.1.2.2.2.2.2.2.2.2.2.2.2.2.2.2.2.2.1 k1_t141 k1_t144
theorem k1_off1965_inb : ∀ (i : grid1.Coords) (v2584 : BitVec 32) (v2586 : BitVec 32) (k1_hw15 : k1_chk15 i v2584 v2586) (k1_t141 : Fin (k1_t141_loop v2584 v2586).trips) (k1_t144 : Fin (k1_t144_loop v2584 v2586 k1_t141).trips), ∀ a, (k1_off1965 v2584 v2586 k1_t141 k1_t144) a + S1x16.size a ≤ S72x256.size a := fun i v2584 v2586 k1_hw15 k1_t141 k1_t144 => k1_hw15.2.1.2.2.2.2.2.2.2.2.2.2.2.2.2.2.2.2.2.1 k1_t141 k1_t144
theorem k1_off1966_inb : ∀ (i : grid1.Coords) (v2584 : BitVec 32) (v2586 : BitVec 32) (k1_hw15 : k1_chk15 i v2584 v2586) (k1_t141 : Fin (k1_t141_loop v2584 v2586).trips) (k1_t144 : Fin (k1_t144_loop v2584 v2586 k1_t141).trips), ∀ a, (k1_off1966 v2584 v2586 k1_t141 k1_t144) a + S1x16.size a ≤ S72x256.size a := fun i v2584 v2586 k1_hw15 k1_t141 k1_t144 => k1_hw15.2.1.2.2.2.2.2.2.2.2.2.2.2.2.2.2.2.2.2.2.1 k1_t141 k1_t144
theorem k1_off1967_inb : ∀ (i : grid1.Coords) (v2584 : BitVec 32) (v2586 : BitVec 32) (k1_hw15 : k1_chk15 i v2584 v2586) (k1_t141 : Fin (k1_t141_loop v2584 v2586).trips) (k1_t144 : Fin (k1_t144_loop v2584 v2586 k1_t141).trips), ∀ a, (k1_off1967 v2584 v2586 k1_t141 k1_t144) a + S1x16.size a ≤ S72x256.size a := fun i v2584 v2586 k1_hw15 k1_t141 k1_t144 => k1_hw15.2.1.2.2.2.2.2.2.2.2.2.2.2.2.2.2.2.2.2.2.2.1 k1_t141 k1_t144
theorem k1_off1968_inb : ∀ (i : grid1.Coords) (v2584 : BitVec 32) (v2586 : BitVec 32) (k1_hw15 : k1_chk15 i v2584 v2586) (k1_t141 : Fin (k1_t141_loop v2584 v2586).trips) (k1_t144 : Fin (k1_t144_loop v2584 v2586 k1_t141).trips), ∀ a, (k1_off1968 v2584 v2586 k1_t141 k1_t144) a + S1x16.size a ≤ S72x256.size a := fun i v2584 v2586 k1_hw15 k1_t141 k1_t144 => k1_hw15.2.1.2.2.2.2.2.2.2.2.2.2.2.2.2.2.2.2.2.2.2.2.1 k1_t141 k1_t144
theorem k1_off1969_inb : ∀ (i : grid1.Coords) (v2584 : BitVec 32) (v2586 : BitVec 32) (k1_hw15 : k1_chk15 i v2584 v2586) (k1_t141 : Fin (k1_t141_loop v2584 v2586).trips) (k1_t144 : Fin (k1_t144_loop v2584 v2586 k1_t141).trips), ∀ a, (k1_off1969 v2584 v2586 k1_t141 k1_t144) a + S1x16.size a ≤ S72x256.size a := fun i v2584 v2586 k1_hw15 k1_t141 k1_t144 => k1_hw15.2.1.2.2.2.2.2.2.2.2.2.2.2.2.2.2.2.2.2.2.2.2.2.1 k1_t141 k1_t144
theorem k1_off1970_inb : ∀ (i : grid1.Coords) (v2584 : BitVec 32) (v2586 : BitVec 32) (k1_hw15 : k1_chk15 i v2584 v2586) (k1_t141 : Fin (k1_t141_loop v2584 v2586).trips) (k1_t144 : Fin (k1_t144_loop v2584 v2586 k1_t141).trips), ∀ a, (k1_off1970 v2584 v2586 k1_t141 k1_t144) a + S1x16.size a ≤ S72x256.size a := fun i v2584 v2586 k1_hw15 k1_t141 k1_t144 => k1_hw15.2.1.2.2.2.2.2.2.2.2.2.2.2.2.2.2.2.2.2.2.2.2.2.2.1 k1_t141 k1_t144
theorem k1_off1971_inb : ∀ (i : grid1.Coords) (v2584 : BitVec 32) (v2586 : BitVec 32) (k1_hw15 : k1_chk15 i v2584 v2586) (k1_t141 : Fin (k1_t141_loop v2584 v2586).trips) (k1_t144 : Fin (k1_t144_loop v2584 v2586 k1_t141).trips), ∀ a, (k1_off1971 v2584 v2586 k1_t141 k1_t144) a + S1x16.size a ≤ S72x256.size a := fun i v2584 v2586 k1_hw15 k1_t141 k1_t144 => k1_hw15.2.1.2.2.2.2.2.2.2.2.2.2.2.2.2.2.2.2.2.2.2.2.2.2.2.1 k1_t141 k1_t144
theorem k1_off1972_inb : ∀ (i : grid1.Coords) (v2584 : BitVec 32) (v2586 : BitVec 32) (k1_hw15 : k1_chk15 i v2584 v2586) (k1_t141 : Fin (k1_t141_loop v2584 v2586).trips) (k1_t144 : Fin (k1_t144_loop v2584 v2586 k1_t141).trips), ∀ a, (k1_off1972 v2584 v2586 k1_t141 k1_t144) a + S1x16.size a ≤ S72x256.size a := fun i v2584 v2586 k1_hw15 k1_t141 k1_t144 => k1_hw15.2.1.2.2.2.2.2.2.2.2.2.2.2.2.2.2.2.2.2.2.2.2.2.2.2.2.1 k1_t141 k1_t144
theorem k1_t145_ok : ∀ (i : grid1.Coords) (v2584 : BitVec 32) (v2586 : BitVec 32) (k1_hw15 : k1_chk15 i v2584 v2586) (k1_t141 : Fin (k1_t141_loop v2584 v2586).trips), (k1_t145_loop v2584 v2586 k1_t141).OK := fun i v2584 v2586 k1_hw15 k1_t141 => k1_hw15.2.1.2.2.2.2.2.2.2.2.2.2.2.2.2.2.2.2.2.2.2.2.2.2.2.2.2.1 k1_t141
theorem k1_off1973_inb : ∀ (i : grid1.Coords) (v2584 : BitVec 32) (v2586 : BitVec 32) (k1_hw15 : k1_chk15 i v2584 v2586) (k1_t141 : Fin (k1_t141_loop v2584 v2586).trips) (k1_t145 : Fin (k1_t145_loop v2584 v2586 k1_t141).trips), ∀ a, (k1_off1973 v2584 v2586 k1_t141 k1_t145) a + S1x16.size a ≤ S72x256.size a := fun i v2584 v2586 k1_hw15 k1_t141 k1_t145 => k1_hw15.2.1.2.2.2.2.2.2.2.2.2.2.2.2.2.2.2.2.2.2.2.2.2.2.2.2.2.2.1 k1_t141 k1_t145
theorem k1_off1974_inb : ∀ (i : grid1.Coords) (v2584 : BitVec 32) (v2586 : BitVec 32) (k1_hw15 : k1_chk15 i v2584 v2586) (k1_t141 : Fin (k1_t141_loop v2584 v2586).trips) (k1_t145 : Fin (k1_t145_loop v2584 v2586 k1_t141).trips), ∀ a, (k1_off1974 v2584 v2586 k1_t141 k1_t145) a + S1x16.size a ≤ S72x256.size a := fun i v2584 v2586 k1_hw15 k1_t141 k1_t145 => k1_hw15.2.1.2.2.2.2.2.2.2.2.2.2.2.2.2.2.2.2.2.2.2.2.2.2.2.2.2.2.2.1 k1_t141 k1_t145
theorem k1_off1975_inb : ∀ (i : grid1.Coords) (v2584 : BitVec 32) (v2586 : BitVec 32) (k1_hw15 : k1_chk15 i v2584 v2586) (k1_t141 : Fin (k1_t141_loop v2584 v2586).trips) (k1_t145 : Fin (k1_t145_loop v2584 v2586 k1_t141).trips), ∀ a, (k1_off1975 v2584 v2586 k1_t141 k1_t145) a + S1x16.size a ≤ S72x256.size a := fun i v2584 v2586 k1_hw15 k1_t141 k1_t145 => k1_hw15.2.1.2.2.2.2.2.2.2.2.2.2.2.2.2.2.2.2.2.2.2.2.2.2.2.2.2.2.2.2.1 k1_t141 k1_t145
theorem k1_off1976_inb : ∀ (i : grid1.Coords) (v2584 : BitVec 32) (v2586 : BitVec 32) (k1_hw15 : k1_chk15 i v2584 v2586) (k1_t141 : Fin (k1_t141_loop v2584 v2586).trips) (k1_t145 : Fin (k1_t145_loop v2584 v2586 k1_t141).trips), ∀ a, (k1_off1976 v2584 v2586 k1_t141 k1_t145) a + S1x16.size a ≤ S72x256.size a := fun i v2584 v2586 k1_hw15 k1_t141 k1_t145 => k1_hw15.2.1.2.2.2.2.2.2.2.2.2.2.2.2.2.2.2.2.2.2.2.2.2.2.2.2.2.2.2.2.2.1 k1_t141 k1_t145
theorem k1_off1977_inb : ∀ (i : grid1.Coords) (v2584 : BitVec 32) (v2586 : BitVec 32) (k1_hw15 : k1_chk15 i v2584 v2586) (k1_t141 : Fin (k1_t141_loop v2584 v2586).trips) (k1_t145 : Fin (k1_t145_loop v2584 v2586 k1_t141).trips), ∀ a, (k1_off1977 v2584 v2586 k1_t141 k1_t145) a + S1x16.size a ≤ S72x256.size a := fun i v2584 v2586 k1_hw15 k1_t141 k1_t145 => k1_hw15.2.1.2.2.2.2.2.2.2.2.2.2.2.2.2.2.2.2.2.2.2.2.2.2.2.2.2.2.2.2.2.2.1 k1_t141 k1_t145
theorem k1_off1978_inb : ∀ (i : grid1.Coords) (v2584 : BitVec 32) (v2586 : BitVec 32) (k1_hw15 : k1_chk15 i v2584 v2586) (k1_t141 : Fin (k1_t141_loop v2584 v2586).trips) (k1_t145 : Fin (k1_t145_loop v2584 v2586 k1_t141).trips), ∀ a, (k1_off1978 v2584 v2586 k1_t141 k1_t145) a + S1x16.size a ≤ S72x256.size a := fun i v2584 v2586 k1_hw15 k1_t141 k1_t145 => k1_hw15.2.1.2.2.2.2.2.2.2.2.2.2.2.2.2.2.2.2.2.2.2.2.2.2.2.2.2.2.2.2.2.2.2 k1_t141 k1_t145
theorem k1_off1979_inb : ∀ (i : grid1.Coords) (v2584 : BitVec 32) (v2586 : BitVec 32) (k1_hw15 : k1_chk15 i v2584 v2586) (k1_t141 : Fin (k1_t141_loop v2584 v2586).trips) (k1_t145 : Fin (k1_t145_loop v2584 v2586 k1_t141).trips), ∀ a, (k1_off1979 v2584 v2586 k1_t141 k1_t145) a + S1x16.size a ≤ S72x256.size a := fun i v2584 v2586 k1_hw15 k1_t141 k1_t145 => k1_hw15.2.2.1.1 k1_t141 k1_t145
theorem k1_off1980_inb : ∀ (i : grid1.Coords) (v2584 : BitVec 32) (v2586 : BitVec 32) (k1_hw15 : k1_chk15 i v2584 v2586) (k1_t141 : Fin (k1_t141_loop v2584 v2586).trips) (k1_t145 : Fin (k1_t145_loop v2584 v2586 k1_t141).trips), ∀ a, (k1_off1980 v2584 v2586 k1_t141 k1_t145) a + S1x16.size a ≤ S72x256.size a := fun i v2584 v2586 k1_hw15 k1_t141 k1_t145 => k1_hw15.2.2.1.2.1 k1_t141 k1_t145
theorem k1_off1981_inb : ∀ (i : grid1.Coords) (v2584 : BitVec 32) (v2586 : BitVec 32) (k1_hw15 : k1_chk15 i v2584 v2586) (k1_t141 : Fin (k1_t141_loop v2584 v2586).trips) (k1_t145 : Fin (k1_t145_loop v2584 v2586 k1_t141).trips), ∀ a, (k1_off1981 v2584 v2586 k1_t141 k1_t145) a + S1x16.size a ≤ S72x256.size a := fun i v2584 v2586 k1_hw15 k1_t141 k1_t145 => k1_hw15.2.2.1.2.2.1 k1_t141 k1_t145
theorem k1_off1982_inb : ∀ (i : grid1.Coords) (v2584 : BitVec 32) (v2586 : BitVec 32) (k1_hw15 : k1_chk15 i v2584 v2586) (k1_t141 : Fin (k1_t141_loop v2584 v2586).trips) (k1_t145 : Fin (k1_t145_loop v2584 v2586 k1_t141).trips), ∀ a, (k1_off1982 v2584 v2586 k1_t141 k1_t145) a + S1x16.size a ≤ S72x256.size a := fun i v2584 v2586 k1_hw15 k1_t141 k1_t145 => k1_hw15.2.2.1.2.2.2.1 k1_t141 k1_t145
theorem k1_off1983_inb : ∀ (i : grid1.Coords) (v2584 : BitVec 32) (v2586 : BitVec 32) (k1_hw15 : k1_chk15 i v2584 v2586) (k1_t141 : Fin (k1_t141_loop v2584 v2586).trips) (k1_t145 : Fin (k1_t145_loop v2584 v2586 k1_t141).trips), ∀ a, (k1_off1983 v2584 v2586 k1_t141 k1_t145) a + S1x16.size a ≤ S72x256.size a := fun i v2584 v2586 k1_hw15 k1_t141 k1_t145 => k1_hw15.2.2.1.2.2.2.2.1 k1_t141 k1_t145
theorem k1_off1984_inb : ∀ (i : grid1.Coords) (v2584 : BitVec 32) (v2586 : BitVec 32) (k1_hw15 : k1_chk15 i v2584 v2586) (k1_t141 : Fin (k1_t141_loop v2584 v2586).trips) (k1_t145 : Fin (k1_t145_loop v2584 v2586 k1_t141).trips), ∀ a, (k1_off1984 v2584 v2586 k1_t141 k1_t145) a + S1x16.size a ≤ S72x256.size a := fun i v2584 v2586 k1_hw15 k1_t141 k1_t145 => k1_hw15.2.2.1.2.2.2.2.2.1 k1_t141 k1_t145
theorem k1_off1985_inb : ∀ (i : grid1.Coords) (v2584 : BitVec 32) (v2586 : BitVec 32) (k1_hw15 : k1_chk15 i v2584 v2586) (k1_t141 : Fin (k1_t141_loop v2584 v2586).trips) (k1_t145 : Fin (k1_t145_loop v2584 v2586 k1_t141).trips), ∀ a, (k1_off1985 v2584 v2586 k1_t141 k1_t145) a + S1x16.size a ≤ S72x256.size a := fun i v2584 v2586 k1_hw15 k1_t141 k1_t145 => k1_hw15.2.2.1.2.2.2.2.2.2.1 k1_t141 k1_t145
theorem k1_off1986_inb : ∀ (i : grid1.Coords) (v2584 : BitVec 32) (v2586 : BitVec 32) (k1_hw15 : k1_chk15 i v2584 v2586) (k1_t141 : Fin (k1_t141_loop v2584 v2586).trips) (k1_t145 : Fin (k1_t145_loop v2584 v2586 k1_t141).trips), ∀ a, (k1_off1986 v2584 v2586 k1_t141 k1_t145) a + S1x16.size a ≤ S72x256.size a := fun i v2584 v2586 k1_hw15 k1_t141 k1_t145 => k1_hw15.2.2.1.2.2.2.2.2.2.2.1 k1_t141 k1_t145
theorem k1_off1987_inb : ∀ (i : grid1.Coords) (v2584 : BitVec 32) (v2586 : BitVec 32) (k1_hw15 : k1_chk15 i v2584 v2586) (k1_t141 : Fin (k1_t141_loop v2584 v2586).trips) (k1_t145 : Fin (k1_t145_loop v2584 v2586 k1_t141).trips), ∀ a, (k1_off1987 v2584 v2586 k1_t141 k1_t145) a + S1x16.size a ≤ S72x256.size a := fun i v2584 v2586 k1_hw15 k1_t141 k1_t145 => k1_hw15.2.2.1.2.2.2.2.2.2.2.2.1 k1_t141 k1_t145
theorem k1_off1988_inb : ∀ (i : grid1.Coords) (v2584 : BitVec 32) (v2586 : BitVec 32) (k1_hw15 : k1_chk15 i v2584 v2586) (k1_t141 : Fin (k1_t141_loop v2584 v2586).trips) (k1_t145 : Fin (k1_t145_loop v2584 v2586 k1_t141).trips), ∀ a, (k1_off1988 v2584 v2586 k1_t141 k1_t145) a + S1x16.size a ≤ S72x256.size a := fun i v2584 v2586 k1_hw15 k1_t141 k1_t145 => k1_hw15.2.2.1.2.2.2.2.2.2.2.2.2.1 k1_t141 k1_t145
theorem k1_t146_ok : ∀ (i : grid1.Coords) (v2584 : BitVec 32) (v2586 : BitVec 32) (k1_hw15 : k1_chk15 i v2584 v2586), (k1_t146_loop v2584 v2586).OK := fun i v2584 v2586 k1_hw15 => k1_hw15.2.2.1.2.2.2.2.2.2.2.2.2.2.1
theorem k1_off1989_inb : ∀ (i : grid1.Coords) (v2584 : BitVec 32) (v2586 : BitVec 32) (k1_hw15 : k1_chk15 i v2584 v2586) (k1_t146 : Fin (k1_t146_loop v2584 v2586).trips), ∀ (k1_h132 : k1_cond132 v2584 v2586 k1_t146 = 1#1), ∀ a, (k1_off1989 i v2584 v2586 k1_t146) a + S72x256.size a ≤ S100000x512.size a := fun i v2584 v2586 k1_hw15 k1_t146 k1_h132 => k1_hw15.2.2.1.2.2.2.2.2.2.2.2.2.2.2.1 k1_t146 k1_h132
theorem k1_off1990_inb : ∀ (i : grid1.Coords) (v2584 : BitVec 32) (v2586 : BitVec 32) (k1_hw15 : k1_chk15 i v2584 v2586) (k1_t146 : Fin (k1_t146_loop v2584 v2586).trips), ∀ (k1_h132 : k1_cond132 v2584 v2586 k1_t146 = 1#1), ∀ (k1_h133 : k1_cond133 v2584 v2586 k1_t146 = 1#1), ∀ a, (k1_off1990 i v2584 v2586 k1_t146) a + S72x256.size a ≤ S100000x512.size a := fun i v2584 v2586 k1_hw15 k1_t146 k1_h132 k1_h133 => k1_hw15.2.2.1.2.2.2.2.2.2.2.2.2.2.2.2.1 k1_t146 k1_h132 k1_h133
theorem k1_t147_ok : ∀ (i : grid1.Coords) (v2584 : BitVec 32) (v2586 : BitVec 32) (k1_hw15 : k1_chk15 i v2584 v2586) (k1_t146 : Fin (k1_t146_loop v2584 v2586).trips), (k1_t147_loop v2584 v2586 k1_t146).OK := fun i v2584 v2586 k1_hw15 k1_t146 => k1_hw15.2.2.1.2.2.2.2.2.2.2.2.2.2.2.2.2.1 k1_t146
theorem k1_off1991_inb : ∀ (i : grid1.Coords) (v2584 : BitVec 32) (v2586 : BitVec 32) (k1_hw15 : k1_chk15 i v2584 v2586) (k1_t146 : Fin (k1_t146_loop v2584 v2586).trips) (k1_t147 : Fin (k1_t147_loop v2584 v2586 k1_t146).trips), ∀ a, (k1_off1991 v2584 v2586 k1_t146 k1_t147) a + S1x16.size a ≤ S72x256.size a := fun i v2584 v2586 k1_hw15 k1_t146 k1_t147 => k1_hw15.2.2.1.2.2.2.2.2.2.2.2.2.2.2.2.2.2.1 k1_t146 k1_t147
theorem k1_off1992_inb : ∀ (i : grid1.Coords) (v2584 : BitVec 32) (v2586 : BitVec 32) (k1_hw15 : k1_chk15 i v2584 v2586) (k1_t146 : Fin (k1_t146_loop v2584 v2586).trips) (k1_t147 : Fin (k1_t147_loop v2584 v2586 k1_t146).trips), ∀ a, (k1_off1992 v2584 v2586 k1_t146 k1_t147) a + S1x16.size a ≤ S72x256.size a := fun i v2584 v2586 k1_hw15 k1_t146 k1_t147 => k1_hw15.2.2.1.2.2.2.2.2.2.2.2.2.2.2.2.2.2.2.1 k1_t146 k1_t147
theorem k1_off1993_inb : ∀ (i : grid1.Coords) (v2584 : BitVec 32) (v2586 : BitVec 32) (k1_hw15 : k1_chk15 i v2584 v2586) (k1_t146 : Fin (k1_t146_loop v2584 v2586).trips) (k1_t147 : Fin (k1_t147_loop v2584 v2586 k1_t146).trips), ∀ a, (k1_off1993 v2584 v2586 k1_t146 k1_t147) a + S1x16.size a ≤ S72x256.size a := fun i v2584 v2586 k1_hw15 k1_t146 k1_t147 => k1_hw15.2.2.1.2.2.2.2.2.2.2.2.2.2.2.2.2.2.2.2.1 k1_t146 k1_t147
theorem k1_off1994_inb : ∀ (i : grid1.Coords) (v2584 : BitVec 32) (v2586 : BitVec 32) (k1_hw15 : k1_chk15 i v2584 v2586) (k1_t146 : Fin (k1_t146_loop v2584 v2586).trips) (k1_t147 : Fin (k1_t147_loop v2584 v2586 k1_t146).trips), ∀ a, (k1_off1994 v2584 v2586 k1_t146 k1_t147) a + S1x16.size a ≤ S72x256.size a := fun i v2584 v2586 k1_hw15 k1_t146 k1_t147 => k1_hw15.2.2.1.2.2.2.2.2.2.2.2.2.2.2.2.2.2.2.2.2.1 k1_t146 k1_t147
theorem k1_off1995_inb : ∀ (i : grid1.Coords) (v2584 : BitVec 32) (v2586 : BitVec 32) (k1_hw15 : k1_chk15 i v2584 v2586) (k1_t146 : Fin (k1_t146_loop v2584 v2586).trips) (k1_t147 : Fin (k1_t147_loop v2584 v2586 k1_t146).trips), ∀ a, (k1_off1995 v2584 v2586 k1_t146 k1_t147) a + S1x16.size a ≤ S72x256.size a := fun i v2584 v2586 k1_hw15 k1_t146 k1_t147 => k1_hw15.2.2.1.2.2.2.2.2.2.2.2.2.2.2.2.2.2.2.2.2.2.1 k1_t146 k1_t147
theorem k1_off1996_inb : ∀ (i : grid1.Coords) (v2584 : BitVec 32) (v2586 : BitVec 32) (k1_hw15 : k1_chk15 i v2584 v2586) (k1_t146 : Fin (k1_t146_loop v2584 v2586).trips) (k1_t147 : Fin (k1_t147_loop v2584 v2586 k1_t146).trips), ∀ a, (k1_off1996 v2584 v2586 k1_t146 k1_t147) a + S1x16.size a ≤ S72x256.size a := fun i v2584 v2586 k1_hw15 k1_t146 k1_t147 => k1_hw15.2.2.1.2.2.2.2.2.2.2.2.2.2.2.2.2.2.2.2.2.2.2.1 k1_t146 k1_t147
theorem k1_off1997_inb : ∀ (i : grid1.Coords) (v2584 : BitVec 32) (v2586 : BitVec 32) (k1_hw15 : k1_chk15 i v2584 v2586) (k1_t146 : Fin (k1_t146_loop v2584 v2586).trips) (k1_t147 : Fin (k1_t147_loop v2584 v2586 k1_t146).trips), ∀ a, (k1_off1997 v2584 v2586 k1_t146 k1_t147) a + S1x16.size a ≤ S72x256.size a := fun i v2584 v2586 k1_hw15 k1_t146 k1_t147 => k1_hw15.2.2.1.2.2.2.2.2.2.2.2.2.2.2.2.2.2.2.2.2.2.2.2.1 k1_t146 k1_t147
theorem k1_off1998_inb : ∀ (i : grid1.Coords) (v2584 : BitVec 32) (v2586 : BitVec 32) (k1_hw15 : k1_chk15 i v2584 v2586) (k1_t146 : Fin (k1_t146_loop v2584 v2586).trips) (k1_t147 : Fin (k1_t147_loop v2584 v2586 k1_t146).trips), ∀ a, (k1_off1998 v2584 v2586 k1_t146 k1_t147) a + S1x16.size a ≤ S72x256.size a := fun i v2584 v2586 k1_hw15 k1_t146 k1_t147 => k1_hw15.2.2.1.2.2.2.2.2.2.2.2.2.2.2.2.2.2.2.2.2.2.2.2.2.1 k1_t146 k1_t147
theorem k1_off1999_inb : ∀ (i : grid1.Coords) (v2584 : BitVec 32) (v2586 : BitVec 32) (k1_hw15 : k1_chk15 i v2584 v2586) (k1_t146 : Fin (k1_t146_loop v2584 v2586).trips) (k1_t147 : Fin (k1_t147_loop v2584 v2586 k1_t146).trips), ∀ a, (k1_off1999 v2584 v2586 k1_t146 k1_t147) a + S1x16.size a ≤ S72x256.size a := fun i v2584 v2586 k1_hw15 k1_t146 k1_t147 => k1_hw15.2.2.1.2.2.2.2.2.2.2.2.2.2.2.2.2.2.2.2.2.2.2.2.2.2.1 k1_t146 k1_t147
theorem k1_off2000_inb : ∀ (i : grid1.Coords) (v2584 : BitVec 32) (v2586 : BitVec 32) (k1_hw15 : k1_chk15 i v2584 v2586) (k1_t146 : Fin (k1_t146_loop v2584 v2586).trips) (k1_t147 : Fin (k1_t147_loop v2584 v2586 k1_t146).trips), ∀ a, (k1_off2000 v2584 v2586 k1_t146 k1_t147) a + S1x16.size a ≤ S72x256.size a := fun i v2584 v2586 k1_hw15 k1_t146 k1_t147 => k1_hw15.2.2.1.2.2.2.2.2.2.2.2.2.2.2.2.2.2.2.2.2.2.2.2.2.2.2.1 k1_t146 k1_t147
theorem k1_off2001_inb : ∀ (i : grid1.Coords) (v2584 : BitVec 32) (v2586 : BitVec 32) (k1_hw15 : k1_chk15 i v2584 v2586) (k1_t146 : Fin (k1_t146_loop v2584 v2586).trips) (k1_t147 : Fin (k1_t147_loop v2584 v2586 k1_t146).trips), ∀ a, (k1_off2001 v2584 v2586 k1_t146 k1_t147) a + S1x16.size a ≤ S72x256.size a := fun i v2584 v2586 k1_hw15 k1_t146 k1_t147 => k1_hw15.2.2.1.2.2.2.2.2.2.2.2.2.2.2.2.2.2.2.2.2.2.2.2.2.2.2.2.1 k1_t146 k1_t147
theorem k1_off2002_inb : ∀ (i : grid1.Coords) (v2584 : BitVec 32) (v2586 : BitVec 32) (k1_hw15 : k1_chk15 i v2584 v2586) (k1_t146 : Fin (k1_t146_loop v2584 v2586).trips) (k1_t147 : Fin (k1_t147_loop v2584 v2586 k1_t146).trips), ∀ a, (k1_off2002 v2584 v2586 k1_t146 k1_t147) a + S1x16.size a ≤ S72x256.size a := fun i v2584 v2586 k1_hw15 k1_t146 k1_t147 => k1_hw15.2.2.1.2.2.2.2.2.2.2.2.2.2.2.2.2.2.2.2.2.2.2.2.2.2.2.2.2.1 k1_t146 k1_t147
theorem k1_off2003_inb : ∀ (i : grid1.Coords) (v2584 : BitVec 32) (v2586 : BitVec 32) (k1_hw15 : k1_chk15 i v2584 v2586) (k1_t146 : Fin (k1_t146_loop v2584 v2586).trips) (k1_t147 : Fin (k1_t147_loop v2584 v2586 k1_t146).trips), ∀ a, (k1_off2003 v2584 v2586 k1_t146 k1_t147) a + S1x16.size a ≤ S72x256.size a := fun i v2584 v2586 k1_hw15 k1_t146 k1_t147 => k1_hw15.2.2.1.2.2.2.2.2.2.2.2.2.2.2.2.2.2.2.2.2.2.2.2.2.2.2.2.2.2.1 k1_t146 k1_t147
theorem k1_off2004_inb : ∀ (i : grid1.Coords) (v2584 : BitVec 32) (v2586 : BitVec 32) (k1_hw15 : k1_chk15 i v2584 v2586) (k1_t146 : Fin (k1_t146_loop v2584 v2586).trips) (k1_t147 : Fin (k1_t147_loop v2584 v2586 k1_t146).trips), ∀ a, (k1_off2004 v2584 v2586 k1_t146 k1_t147) a + S1x16.size a ≤ S72x256.size a := fun i v2584 v2586 k1_hw15 k1_t146 k1_t147 => k1_hw15.2.2.1.2.2.2.2.2.2.2.2.2.2.2.2.2.2.2.2.2.2.2.2.2.2.2.2.2.2.2.1 k1_t146 k1_t147
theorem k1_off2005_inb : ∀ (i : grid1.Coords) (v2584 : BitVec 32) (v2586 : BitVec 32) (k1_hw15 : k1_chk15 i v2584 v2586) (k1_t146 : Fin (k1_t146_loop v2584 v2586).trips) (k1_t147 : Fin (k1_t147_loop v2584 v2586 k1_t146).trips), ∀ a, (k1_off2005 v2584 v2586 k1_t146 k1_t147) a + S1x16.size a ≤ S72x256.size a := fun i v2584 v2586 k1_hw15 k1_t146 k1_t147 => k1_hw15.2.2.1.2.2.2.2.2.2.2.2.2.2.2.2.2.2.2.2.2.2.2.2.2.2.2.2.2.2.2.2.1 k1_t146 k1_t147
theorem k1_off2006_inb : ∀ (i : grid1.Coords) (v2584 : BitVec 32) (v2586 : BitVec 32) (k1_hw15 : k1_chk15 i v2584 v2586) (k1_t146 : Fin (k1_t146_loop v2584 v2586).trips) (k1_t147 : Fin (k1_t147_loop v2584 v2586 k1_t146).trips), ∀ a, (k1_off2006 v2584 v2586 k1_t146 k1_t147) a + S1x16.size a ≤ S72x256.size a := fun i v2584 v2586 k1_hw15 k1_t146 k1_t147 => k1_hw15.2.2.1.2.2.2.2.2.2.2.2.2.2.2.2.2.2.2.2.2.2.2.2.2.2.2.2.2.2.2.2.2.1 k1_t146 k1_t147
theorem k1_t148_ok : ∀ (i : grid1.Coords) (v2584 : BitVec 32) (v2586 : BitVec 32) (k1_hw15 : k1_chk15 i v2584 v2586) (k1_t146 : Fin (k1_t146_loop v2584 v2586).trips), (k1_t148_loop v2584 v2586 k1_t146).OK := fun i v2584 v2586 k1_hw15 k1_t146 => k1_hw15.2.2.1.2.2.2.2.2.2.2.2.2.2.2.2.2.2.2.2.2.2.2.2.2.2.2.2.2.2.2.2.2.2.1 k1_t146
theorem k1_off2007_inb : ∀ (i : grid1.Coords) (v2584 : BitVec 32) (v2586 : BitVec 32) (k1_hw15 : k1_chk15 i v2584 v2586) (k1_t146 : Fin (k1_t146_loop v2584 v2586).trips) (k1_t148 : Fin (k1_t148_loop v2584 v2586 k1_t146).trips), ∀ a, (k1_off2007 v2584 v2586 k1_t146 k1_t148) a + S1x16.size a ≤ S72x256.size a := fun i v2584 v2586 k1_hw15 k1_t146 k1_t148 => k1_hw15.2.2.1.2.2.2.2.2.2.2.2.2.2.2.2.2.2.2.2.2.2.2.2.2.2.2.2.2.2.2.2.2.2.2 k1_t146 k1_t148
theorem k1_off2008_inb : ∀ (i : grid1.Coords) (v2584 : BitVec 32) (v2586 : BitVec 32) (k1_hw15 : k1_chk15 i v2584 v2586) (k1_t146 : Fin (k1_t146_loop v2584 v2586).trips) (k1_t148 : Fin (k1_t148_loop v2584 v2586 k1_t146).trips), ∀ a, (k1_off2008 v2584 v2586 k1_t146 k1_t148) a + S1x16.size a ≤ S72x256.size a := fun i v2584 v2586 k1_hw15 k1_t146 k1_t148 => k1_hw15.2.2.2.1.1 k1_t146 k1_t148
theorem k1_off2009_inb : ∀ (i : grid1.Coords) (v2584 : BitVec 32) (v2586 : BitVec 32) (k1_hw15 : k1_chk15 i v2584 v2586) (k1_t146 : Fin (k1_t146_loop v2584 v2586).trips) (k1_t148 : Fin (k1_t148_loop v2584 v2586 k1_t146).trips), ∀ a, (k1_off2009 v2584 v2586 k1_t146 k1_t148) a + S1x16.size a ≤ S72x256.size a := fun i v2584 v2586 k1_hw15 k1_t146 k1_t148 => k1_hw15.2.2.2.1.2.1 k1_t146 k1_t148
theorem k1_off2010_inb : ∀ (i : grid1.Coords) (v2584 : BitVec 32) (v2586 : BitVec 32) (k1_hw15 : k1_chk15 i v2584 v2586) (k1_t146 : Fin (k1_t146_loop v2584 v2586).trips) (k1_t148 : Fin (k1_t148_loop v2584 v2586 k1_t146).trips), ∀ a, (k1_off2010 v2584 v2586 k1_t146 k1_t148) a + S1x16.size a ≤ S72x256.size a := fun i v2584 v2586 k1_hw15 k1_t146 k1_t148 => k1_hw15.2.2.2.1.2.2.1 k1_t146 k1_t148
theorem k1_off2011_inb : ∀ (i : grid1.Coords) (v2584 : BitVec 32) (v2586 : BitVec 32) (k1_hw15 : k1_chk15 i v2584 v2586) (k1_t146 : Fin (k1_t146_loop v2584 v2586).trips) (k1_t148 : Fin (k1_t148_loop v2584 v2586 k1_t146).trips), ∀ a, (k1_off2011 v2584 v2586 k1_t146 k1_t148) a + S1x16.size a ≤ S72x256.size a := fun i v2584 v2586 k1_hw15 k1_t146 k1_t148 => k1_hw15.2.2.2.1.2.2.2.1 k1_t146 k1_t148
theorem k1_off2012_inb : ∀ (i : grid1.Coords) (v2584 : BitVec 32) (v2586 : BitVec 32) (k1_hw15 : k1_chk15 i v2584 v2586) (k1_t146 : Fin (k1_t146_loop v2584 v2586).trips) (k1_t148 : Fin (k1_t148_loop v2584 v2586 k1_t146).trips), ∀ a, (k1_off2012 v2584 v2586 k1_t146 k1_t148) a + S1x16.size a ≤ S72x256.size a := fun i v2584 v2586 k1_hw15 k1_t146 k1_t148 => k1_hw15.2.2.2.1.2.2.2.2.1 k1_t146 k1_t148
theorem k1_off2013_inb : ∀ (i : grid1.Coords) (v2584 : BitVec 32) (v2586 : BitVec 32) (k1_hw15 : k1_chk15 i v2584 v2586) (k1_t146 : Fin (k1_t146_loop v2584 v2586).trips) (k1_t148 : Fin (k1_t148_loop v2584 v2586 k1_t146).trips), ∀ a, (k1_off2013 v2584 v2586 k1_t146 k1_t148) a + S1x16.size a ≤ S72x256.size a := fun i v2584 v2586 k1_hw15 k1_t146 k1_t148 => k1_hw15.2.2.2.1.2.2.2.2.2.1 k1_t146 k1_t148
theorem k1_off2014_inb : ∀ (i : grid1.Coords) (v2584 : BitVec 32) (v2586 : BitVec 32) (k1_hw15 : k1_chk15 i v2584 v2586) (k1_t146 : Fin (k1_t146_loop v2584 v2586).trips) (k1_t148 : Fin (k1_t148_loop v2584 v2586 k1_t146).trips), ∀ a, (k1_off2014 v2584 v2586 k1_t146 k1_t148) a + S1x16.size a ≤ S72x256.size a := fun i v2584 v2586 k1_hw15 k1_t146 k1_t148 => k1_hw15.2.2.2.1.2.2.2.2.2.2.1 k1_t146 k1_t148
theorem k1_off2015_inb : ∀ (i : grid1.Coords) (v2584 : BitVec 32) (v2586 : BitVec 32) (k1_hw15 : k1_chk15 i v2584 v2586) (k1_t146 : Fin (k1_t146_loop v2584 v2586).trips) (k1_t148 : Fin (k1_t148_loop v2584 v2586 k1_t146).trips), ∀ a, (k1_off2015 v2584 v2586 k1_t146 k1_t148) a + S1x16.size a ≤ S72x256.size a := fun i v2584 v2586 k1_hw15 k1_t146 k1_t148 => k1_hw15.2.2.2.1.2.2.2.2.2.2.2.1 k1_t146 k1_t148
theorem k1_off2016_inb : ∀ (i : grid1.Coords) (v2584 : BitVec 32) (v2586 : BitVec 32) (k1_hw15 : k1_chk15 i v2584 v2586) (k1_t146 : Fin (k1_t146_loop v2584 v2586).trips) (k1_t148 : Fin (k1_t148_loop v2584 v2586 k1_t146).trips), ∀ a, (k1_off2016 v2584 v2586 k1_t146 k1_t148) a + S1x16.size a ≤ S72x256.size a := fun i v2584 v2586 k1_hw15 k1_t146 k1_t148 => k1_hw15.2.2.2.1.2.2.2.2.2.2.2.2.1 k1_t146 k1_t148
theorem k1_off2017_inb : ∀ (i : grid1.Coords) (v2584 : BitVec 32) (v2586 : BitVec 32) (k1_hw15 : k1_chk15 i v2584 v2586) (k1_t146 : Fin (k1_t146_loop v2584 v2586).trips) (k1_t148 : Fin (k1_t148_loop v2584 v2586 k1_t146).trips), ∀ a, (k1_off2017 v2584 v2586 k1_t146 k1_t148) a + S1x16.size a ≤ S72x256.size a := fun i v2584 v2586 k1_hw15 k1_t146 k1_t148 => k1_hw15.2.2.2.1.2.2.2.2.2.2.2.2.2.1 k1_t146 k1_t148
theorem k1_off2018_inb : ∀ (i : grid1.Coords) (v2584 : BitVec 32) (v2586 : BitVec 32) (k1_hw15 : k1_chk15 i v2584 v2586) (k1_t146 : Fin (k1_t146_loop v2584 v2586).trips) (k1_t148 : Fin (k1_t148_loop v2584 v2586 k1_t146).trips), ∀ a, (k1_off2018 v2584 v2586 k1_t146 k1_t148) a + S1x16.size a ≤ S72x256.size a := fun i v2584 v2586 k1_hw15 k1_t146 k1_t148 => k1_hw15.2.2.2.1.2.2.2.2.2.2.2.2.2.2.1 k1_t146 k1_t148
theorem k1_off2019_inb : ∀ (i : grid1.Coords) (v2584 : BitVec 32) (v2586 : BitVec 32) (k1_hw15 : k1_chk15 i v2584 v2586) (k1_t146 : Fin (k1_t146_loop v2584 v2586).trips) (k1_t148 : Fin (k1_t148_loop v2584 v2586 k1_t146).trips), ∀ a, (k1_off2019 v2584 v2586 k1_t146 k1_t148) a + S1x16.size a ≤ S72x256.size a := fun i v2584 v2586 k1_hw15 k1_t146 k1_t148 => k1_hw15.2.2.2.1.2.2.2.2.2.2.2.2.2.2.2.1 k1_t146 k1_t148
theorem k1_off2020_inb : ∀ (i : grid1.Coords) (v2584 : BitVec 32) (v2586 : BitVec 32) (k1_hw15 : k1_chk15 i v2584 v2586) (k1_t146 : Fin (k1_t146_loop v2584 v2586).trips) (k1_t148 : Fin (k1_t148_loop v2584 v2586 k1_t146).trips), ∀ a, (k1_off2020 v2584 v2586 k1_t146 k1_t148) a + S1x16.size a ≤ S72x256.size a := fun i v2584 v2586 k1_hw15 k1_t146 k1_t148 => k1_hw15.2.2.2.1.2.2.2.2.2.2.2.2.2.2.2.2.1 k1_t146 k1_t148
theorem k1_off2021_inb : ∀ (i : grid1.Coords) (v2584 : BitVec 32) (v2586 : BitVec 32) (k1_hw15 : k1_chk15 i v2584 v2586) (k1_t146 : Fin (k1_t146_loop v2584 v2586).trips) (k1_t148 : Fin (k1_t148_loop v2584 v2586 k1_t146).trips), ∀ a, (k1_off2021 v2584 v2586 k1_t146 k1_t148) a + S1x16.size a ≤ S72x256.size a := fun i v2584 v2586 k1_hw15 k1_t146 k1_t148 => k1_hw15.2.2.2.1.2.2.2.2.2.2.2.2.2.2.2.2.2.1 k1_t146 k1_t148
theorem k1_off2022_inb : ∀ (i : grid1.Coords) (v2584 : BitVec 32) (v2586 : BitVec 32) (k1_hw15 : k1_chk15 i v2584 v2586) (k1_t146 : Fin (k1_t146_loop v2584 v2586).trips) (k1_t148 : Fin (k1_t148_loop v2584 v2586 k1_t146).trips), ∀ a, (k1_off2022 v2584 v2586 k1_t146 k1_t148) a + S1x16.size a ≤ S72x256.size a := fun i v2584 v2586 k1_hw15 k1_t146 k1_t148 => k1_hw15.2.2.2.1.2.2.2.2.2.2.2.2.2.2.2.2.2.2.1 k1_t146 k1_t148
theorem k1_off2023_inb : ∀ (i : grid1.Coords) (v2584 : BitVec 32) (v2586 : BitVec 32) (k1_hw15 : k1_chk15 i v2584 v2586) (k1_t146 : Fin (k1_t146_loop v2584 v2586).trips), ∀ (k1_h134 : k1_cond134 v2584 v2586 k1_t146 = 1#1), ∀ a, (k1_off2023 i v2584 v2586 k1_t146) a + S72x256.size a ≤ S100000x512.size a := fun i v2584 v2586 k1_hw15 k1_t146 k1_h134 => k1_hw15.2.2.2.1.2.2.2.2.2.2.2.2.2.2.2.2.2.2.2.1 k1_t146 k1_h134
theorem k1_off2024_inb : ∀ (i : grid1.Coords) (v2584 : BitVec 32) (v2586 : BitVec 32) (k1_hw15 : k1_chk15 i v2584 v2586) (k1_t146 : Fin (k1_t146_loop v2584 v2586).trips), ∀ (k1_h134 : k1_cond134 v2584 v2586 k1_t146 = 1#1), ∀ (k1_h135 : k1_cond135 v2584 v2586 k1_t146 = 1#1), ∀ a, (k1_off2024 i v2584 v2586 k1_t146) a + S72x256.size a ≤ S100000x512.size a := fun i v2584 v2586 k1_hw15 k1_t146 k1_h134 k1_h135 => k1_hw15.2.2.2.1.2.2.2.2.2.2.2.2.2.2.2.2.2.2.2.2.1 k1_t146 k1_h134 k1_h135
theorem k1_t149_ok : ∀ (i : grid1.Coords) (v2584 : BitVec 32) (v2586 : BitVec 32) (k1_hw15 : k1_chk15 i v2584 v2586) (k1_t146 : Fin (k1_t146_loop v2584 v2586).trips), (k1_t149_loop v2584 v2586 k1_t146).OK := fun i v2584 v2586 k1_hw15 k1_t146 => k1_hw15.2.2.2.1.2.2.2.2.2.2.2.2.2.2.2.2.2.2.2.2.2.1 k1_t146
theorem k1_off2025_inb : ∀ (i : grid1.Coords) (v2584 : BitVec 32) (v2586 : BitVec 32) (k1_hw15 : k1_chk15 i v2584 v2586) (k1_t146 : Fin (k1_t146_loop v2584 v2586).trips) (k1_t149 : Fin (k1_t149_loop v2584 v2586 k1_t146).trips), ∀ a, (k1_off2025 v2584 v2586 k1_t146 k1_t149) a + S1x16.size a ≤ S72x256.size a := fun i v2584 v2586 k1_hw15 k1_t146 k1_t149 => k1_hw15.2.2.2.1.2.2.2.2.2.2.2.2.2.2.2.2.2.2.2.2.2.2.1 k1_t146 k1_t149
theorem k1_off2026_inb : ∀ (i : grid1.Coords) (v2584 : BitVec 32) (v2586 : BitVec 32) (k1_hw15 : k1_chk15 i v2584 v2586) (k1_t146 : Fin (k1_t146_loop v2584 v2586).trips) (k1_t149 : Fin (k1_t149_loop v2584 v2586 k1_t146).trips), ∀ a, (k1_off2026 v2584 v2586 k1_t146 k1_t149) a + S1x16.size a ≤ S72x256.size a := fun i v2584 v2586 k1_hw15 k1_t146 k1_t149 => k1_hw15.2.2.2.1.2.2.2.2.2.2.2.2.2.2.2.2.2.2.2.2.2.2.2.1 k1_t146 k1_t149
theorem k1_off2027_inb : ∀ (i : grid1.Coords) (v2584 : BitVec 32) (v2586 : BitVec 32) (k1_hw15 : k1_chk15 i v2584 v2586) (k1_t146 : Fin (k1_t146_loop v2584 v2586).trips) (k1_t149 : Fin (k1_t149_loop v2584 v2586 k1_t146).trips), ∀ a, (k1_off2027 v2584 v2586 k1_t146 k1_t149) a + S1x16.size a ≤ S72x256.size a := fun i v2584 v2586 k1_hw15 k1_t146 k1_t149 => k1_hw15.2.2.2.1.2.2.2.2.2.2.2.2.2.2.2.2.2.2.2.2.2.2.2.2.1 k1_t146 k1_t149
theorem k1_off2028_inb : ∀ (i : grid1.Coords) (v2584 : BitVec 32) (v2586 : BitVec 32) (k1_hw15 : k1_chk15 i v2584 v2586) (k1_t146 : Fin (k1_t146_loop v2584 v2586).trips) (k1_t149 : Fin (k1_t149_loop v2584 v2586 k1_t146).trips), ∀ a, (k1_off2028 v2584 v2586 k1_t146 k1_t149) a + S1x16.size a ≤ S72x256.size a := fun i v2584 v2586 k1_hw15 k1_t146 k1_t149 => k1_hw15.2.2.2.1.2.2.2.2.2.2.2.2.2.2.2.2.2.2.2.2.2.2.2.2.2.1 k1_t146 k1_t149
theorem k1_off2029_inb : ∀ (i : grid1.Coords) (v2584 : BitVec 32) (v2586 : BitVec 32) (k1_hw15 : k1_chk15 i v2584 v2586) (k1_t146 : Fin (k1_t146_loop v2584 v2586).trips) (k1_t149 : Fin (k1_t149_loop v2584 v2586 k1_t146).trips), ∀ a, (k1_off2029 v2584 v2586 k1_t146 k1_t149) a + S1x16.size a ≤ S72x256.size a := fun i v2584 v2586 k1_hw15 k1_t146 k1_t149 => k1_hw15.2.2.2.1.2.2.2.2.2.2.2.2.2.2.2.2.2.2.2.2.2.2.2.2.2.2.1 k1_t146 k1_t149
theorem k1_off2030_inb : ∀ (i : grid1.Coords) (v2584 : BitVec 32) (v2586 : BitVec 32) (k1_hw15 : k1_chk15 i v2584 v2586) (k1_t146 : Fin (k1_t146_loop v2584 v2586).trips) (k1_t149 : Fin (k1_t149_loop v2584 v2586 k1_t146).trips), ∀ a, (k1_off2030 v2584 v2586 k1_t146 k1_t149) a + S1x16.size a ≤ S72x256.size a := fun i v2584 v2586 k1_hw15 k1_t146 k1_t149 => k1_hw15.2.2.2.1.2.2.2.2.2.2.2.2.2.2.2.2.2.2.2.2.2.2.2.2.2.2.2.1 k1_t146 k1_t149
theorem k1_off2031_inb : ∀ (i : grid1.Coords) (v2584 : BitVec 32) (v2586 : BitVec 32) (k1_hw15 : k1_chk15 i v2584 v2586) (k1_t146 : Fin (k1_t146_loop v2584 v2586).trips) (k1_t149 : Fin (k1_t149_loop v2584 v2586 k1_t146).trips), ∀ a, (k1_off2031 v2584 v2586 k1_t146 k1_t149) a + S1x16.size a ≤ S72x256.size a := fun i v2584 v2586 k1_hw15 k1_t146 k1_t149 => k1_hw15.2.2.2.1.2.2.2.2.2.2.2.2.2.2.2.2.2.2.2.2.2.2.2.2.2.2.2.2.1 k1_t146 k1_t149
theorem k1_off2032_inb : ∀ (i : grid1.Coords) (v2584 : BitVec 32) (v2586 : BitVec 32) (k1_hw15 : k1_chk15 i v2584 v2586) (k1_t146 : Fin (k1_t146_loop v2584 v2586).trips) (k1_t149 : Fin (k1_t149_loop v2584 v2586 k1_t146).trips), ∀ a, (k1_off2032 v2584 v2586 k1_t146 k1_t149) a + S1x16.size a ≤ S72x256.size a := fun i v2584 v2586 k1_hw15 k1_t146 k1_t149 => k1_hw15.2.2.2.1.2.2.2.2.2.2.2.2.2.2.2.2.2.2.2.2.2.2.2.2.2.2.2.2.2.1 k1_t146 k1_t149
theorem k1_off2033_inb : ∀ (i : grid1.Coords) (v2584 : BitVec 32) (v2586 : BitVec 32) (k1_hw15 : k1_chk15 i v2584 v2586) (k1_t146 : Fin (k1_t146_loop v2584 v2586).trips) (k1_t149 : Fin (k1_t149_loop v2584 v2586 k1_t146).trips), ∀ a, (k1_off2033 v2584 v2586 k1_t146 k1_t149) a + S1x16.size a ≤ S72x256.size a := fun i v2584 v2586 k1_hw15 k1_t146 k1_t149 => k1_hw15.2.2.2.1.2.2.2.2.2.2.2.2.2.2.2.2.2.2.2.2.2.2.2.2.2.2.2.2.2.2.1 k1_t146 k1_t149
theorem k1_off2034_inb : ∀ (i : grid1.Coords) (v2584 : BitVec 32) (v2586 : BitVec 32) (k1_hw15 : k1_chk15 i v2584 v2586) (k1_t146 : Fin (k1_t146_loop v2584 v2586).trips) (k1_t149 : Fin (k1_t149_loop v2584 v2586 k1_t146).trips), ∀ a, (k1_off2034 v2584 v2586 k1_t146 k1_t149) a + S1x16.size a ≤ S72x256.size a := fun i v2584 v2586 k1_hw15 k1_t146 k1_t149 => k1_hw15.2.2.2.1.2.2.2.2.2.2.2.2.2.2.2.2.2.2.2.2.2.2.2.2.2.2.2.2.2.2.2.1 k1_t146 k1_t149
theorem k1_off2035_inb : ∀ (i : grid1.Coords) (v2584 : BitVec 32) (v2586 : BitVec 32) (k1_hw15 : k1_chk15 i v2584 v2586) (k1_t146 : Fin (k1_t146_loop v2584 v2586).trips) (k1_t149 : Fin (k1_t149_loop v2584 v2586 k1_t146).trips), ∀ a, (k1_off2035 v2584 v2586 k1_t146 k1_t149) a + S1x16.size a ≤ S72x256.size a := fun i v2584 v2586 k1_hw15 k1_t146 k1_t149 => k1_hw15.2.2.2.1.2.2.2.2.2.2.2.2.2.2.2.2.2.2.2.2.2.2.2.2.2.2.2.2.2.2.2.2.1 k1_t146 k1_t149
theorem k1_off2036_inb : ∀ (i : grid1.Coords) (v2584 : BitVec 32) (v2586 : BitVec 32) (k1_hw15 : k1_chk15 i v2584 v2586) (k1_t146 : Fin (k1_t146_loop v2584 v2586).trips) (k1_t149 : Fin (k1_t149_loop v2584 v2586 k1_t146).trips), ∀ a, (k1_off2036 v2584 v2586 k1_t146 k1_t149) a + S1x16.size a ≤ S72x256.size a := fun i v2584 v2586 k1_hw15 k1_t146 k1_t149 => k1_hw15.2.2.2.1.2.2.2.2.2.2.2.2.2.2.2.2.2.2.2.2.2.2.2.2.2.2.2.2.2.2.2.2.2.1 k1_t146 k1_t149
theorem k1_off2037_inb : ∀ (i : grid1.Coords) (v2584 : BitVec 32) (v2586 : BitVec 32) (k1_hw15 : k1_chk15 i v2584 v2586) (k1_t146 : Fin (k1_t146_loop v2584 v2586).trips) (k1_t149 : Fin (k1_t149_loop v2584 v2586 k1_t146).trips), ∀ a, (k1_off2037 v2584 v2586 k1_t146 k1_t149) a + S1x16.size a ≤ S72x256.size a := fun i v2584 v2586 k1_hw15 k1_t146 k1_t149 => k1_hw15.2.2.2.1.2.2.2.2.2.2.2.2.2.2.2.2.2.2.2.2.2.2.2.2.2.2.2.2.2.2.2.2.2.2.1 k1_t146 k1_t149
theorem k1_off2038_inb : ∀ (i : grid1.Coords) (v2584 : BitVec 32) (v2586 : BitVec 32) (k1_hw15 : k1_chk15 i v2584 v2586) (k1_t146 : Fin (k1_t146_loop v2584 v2586).trips) (k1_t149 : Fin (k1_t149_loop v2584 v2586 k1_t146).trips), ∀ a, (k1_off2038 v2584 v2586 k1_t146 k1_t149) a + S1x16.size a ≤ S72x256.size a := fun i v2584 v2586 k1_hw15 k1_t146 k1_t149 => k1_hw15.2.2.2.1.2.2.2.2.2.2.2.2.2.2.2.2.2.2.2.2.2.2.2.2.2.2.2.2.2.2.2.2.2.2.2 k1_t146 k1_t149
theorem k1_off2039_inb : ∀ (i : grid1.Coords) (v2584 : BitVec 32) (v2586 : BitVec 32) (k1_hw15 : k1_chk15 i v2584 v2586) (k1_t146 : Fin (k1_t146_loop v2584 v2586).trips) (k1_t149 : Fin (k1_t149_loop v2584 v2586 k1_t146).trips), ∀ a, (k1_off2039 v2584 v2586 k1_t146 k1_t149) a + S1x16.size a ≤ S72x256.size a := fun i v2584 v2586 k1_hw15 k1_t146 k1_t149 => k1_hw15.2.2.2.2.1 k1_t146 k1_t149
theorem k1_off2040_inb : ∀ (i : grid1.Coords) (v2584 : BitVec 32) (v2586 : BitVec 32) (k1_hw15 : k1_chk15 i v2584 v2586) (k1_t146 : Fin (k1_t146_loop v2584 v2586).trips) (k1_t149 : Fin (k1_t149_loop v2584 v2586 k1_t146).trips), ∀ a, (k1_off2040 v2584 v2586 k1_t146 k1_t149) a + S1x16.size a ≤ S72x256.size a := fun i v2584 v2586 k1_hw15 k1_t146 k1_t149 => k1_hw15.2.2.2.2.2.1 k1_t146 k1_t149
theorem k1_t150_ok : ∀ (i : grid1.Coords) (v2584 : BitVec 32) (v2586 : BitVec 32) (k1_hw15 : k1_chk15 i v2584 v2586) (k1_t146 : Fin (k1_t146_loop v2584 v2586).trips), (k1_t150_loop v2584 v2586 k1_t146).OK := fun i v2584 v2586 k1_hw15 k1_t146 => k1_hw15.2.2.2.2.2.2.1 k1_t146
theorem k1_off2041_inb : ∀ (i : grid1.Coords) (v2584 : BitVec 32) (v2586 : BitVec 32) (k1_hw15 : k1_chk15 i v2584 v2586) (k1_t146 : Fin (k1_t146_loop v2584 v2586).trips) (k1_t150 : Fin (k1_t150_loop v2584 v2586 k1_t146).trips), ∀ a, (k1_off2041 v2584 v2586 k1_t146 k1_t150) a + S1x16.size a ≤ S72x256.size a := fun i v2584 v2586 k1_hw15 k1_t146 k1_t150 => k1_hw15.2.2.2.2.2.2.2.1 k1_t146 k1_t150
theorem k1_off2042_inb : ∀ (i : grid1.Coords) (v2584 : BitVec 32) (v2586 : BitVec 32) (k1_hw15 : k1_chk15 i v2584 v2586) (k1_t146 : Fin (k1_t146_loop v2584 v2586).trips) (k1_t150 : Fin (k1_t150_loop v2584 v2586 k1_t146).trips), ∀ a, (k1_off2042 v2584 v2586 k1_t146 k1_t150) a + S1x16.size a ≤ S72x256.size a := fun i v2584 v2586 k1_hw15 k1_t146 k1_t150 => k1_hw15.2.2.2.2.2.2.2.2.1 k1_t146 k1_t150
theorem k1_off2043_inb : ∀ (i : grid1.Coords) (v2584 : BitVec 32) (v2586 : BitVec 32) (k1_hw15 : k1_chk15 i v2584 v2586) (k1_t146 : Fin (k1_t146_loop v2584 v2586).trips) (k1_t150 : Fin (k1_t150_loop v2584 v2586 k1_t146).trips), ∀ a, (k1_off2043 v2584 v2586 k1_t146 k1_t150) a + S1x16.size a ≤ S72x256.size a := fun i v2584 v2586 k1_hw15 k1_t146 k1_t150 => k1_hw15.2.2.2.2.2.2.2.2.2.1 k1_t146 k1_t150
theorem k1_off2044_inb : ∀ (i : grid1.Coords) (v2584 : BitVec 32) (v2586 : BitVec 32) (k1_hw15 : k1_chk15 i v2584 v2586) (k1_t146 : Fin (k1_t146_loop v2584 v2586).trips) (k1_t150 : Fin (k1_t150_loop v2584 v2586 k1_t146).trips), ∀ a, (k1_off2044 v2584 v2586 k1_t146 k1_t150) a + S1x16.size a ≤ S72x256.size a := fun i v2584 v2586 k1_hw15 k1_t146 k1_t150 => k1_hw15.2.2.2.2.2.2.2.2.2.2.1 k1_t146 k1_t150
theorem k1_off2045_inb : ∀ (i : grid1.Coords) (v2584 : BitVec 32) (v2586 : BitVec 32) (k1_hw15 : k1_chk15 i v2584 v2586) (k1_t146 : Fin (k1_t146_loop v2584 v2586).trips) (k1_t150 : Fin (k1_t150_loop v2584 v2586 k1_t146).trips), ∀ a, (k1_off2045 v2584 v2586 k1_t146 k1_t150) a + S1x16.size a ≤ S72x256.size a := fun i v2584 v2586 k1_hw15 k1_t146 k1_t150 => k1_hw15.2.2.2.2.2.2.2.2.2.2.2.1 k1_t146 k1_t150
theorem k1_off2046_inb : ∀ (i : grid1.Coords) (v2584 : BitVec 32) (v2586 : BitVec 32) (k1_hw15 : k1_chk15 i v2584 v2586) (k1_t146 : Fin (k1_t146_loop v2584 v2586).trips) (k1_t150 : Fin (k1_t150_loop v2584 v2586 k1_t146).trips), ∀ a, (k1_off2046 v2584 v2586 k1_t146 k1_t150) a + S1x16.size a ≤ S72x256.size a := fun i v2584 v2586 k1_hw15 k1_t146 k1_t150 => k1_hw15.2.2.2.2.2.2.2.2.2.2.2.2.1 k1_t146 k1_t150
theorem k1_off2047_inb : ∀ (i : grid1.Coords) (v2584 : BitVec 32) (v2586 : BitVec 32) (k1_hw15 : k1_chk15 i v2584 v2586) (k1_t146 : Fin (k1_t146_loop v2584 v2586).trips) (k1_t150 : Fin (k1_t150_loop v2584 v2586 k1_t146).trips), ∀ a, (k1_off2047 v2584 v2586 k1_t146 k1_t150) a + S1x16.size a ≤ S72x256.size a := fun i v2584 v2586 k1_hw15 k1_t146 k1_t150 => k1_hw15.2.2.2.2.2.2.2.2.2.2.2.2.2.1 k1_t146 k1_t150
theorem k1_off2048_inb : ∀ (i : grid1.Coords) (v2584 : BitVec 32) (v2586 : BitVec 32) (k1_hw15 : k1_chk15 i v2584 v2586) (k1_t146 : Fin (k1_t146_loop v2584 v2586).trips) (k1_t150 : Fin (k1_t150_loop v2584 v2586 k1_t146).trips), ∀ a, (k1_off2048 v2584 v2586 k1_t146 k1_t150) a + S1x16.size a ≤ S72x256.size a := fun i v2584 v2586 k1_hw15 k1_t146 k1_t150 => k1_hw15.2.2.2.2.2.2.2.2.2.2.2.2.2.2.1 k1_t146 k1_t150
theorem k1_off2049_inb : ∀ (i : grid1.Coords) (v2584 : BitVec 32) (v2586 : BitVec 32) (k1_hw15 : k1_chk15 i v2584 v2586) (k1_t146 : Fin (k1_t146_loop v2584 v2586).trips) (k1_t150 : Fin (k1_t150_loop v2584 v2586 k1_t146).trips), ∀ a, (k1_off2049 v2584 v2586 k1_t146 k1_t150) a + S1x16.size a ≤ S72x256.size a := fun i v2584 v2586 k1_hw15 k1_t146 k1_t150 => k1_hw15.2.2.2.2.2.2.2.2.2.2.2.2.2.2.2.1 k1_t146 k1_t150
theorem k1_off2050_inb : ∀ (i : grid1.Coords) (v2584 : BitVec 32) (v2586 : BitVec 32) (k1_hw15 : k1_chk15 i v2584 v2586) (k1_t146 : Fin (k1_t146_loop v2584 v2586).trips) (k1_t150 : Fin (k1_t150_loop v2584 v2586 k1_t146).trips), ∀ a, (k1_off2050 v2584 v2586 k1_t146 k1_t150) a + S1x16.size a ≤ S72x256.size a := fun i v2584 v2586 k1_hw15 k1_t146 k1_t150 => k1_hw15.2.2.2.2.2.2.2.2.2.2.2.2.2.2.2.2.1 k1_t146 k1_t150
theorem k1_off2051_inb : ∀ (i : grid1.Coords) (v2584 : BitVec 32) (v2586 : BitVec 32) (k1_hw15 : k1_chk15 i v2584 v2586) (k1_t146 : Fin (k1_t146_loop v2584 v2586).trips) (k1_t150 : Fin (k1_t150_loop v2584 v2586 k1_t146).trips), ∀ a, (k1_off2051 v2584 v2586 k1_t146 k1_t150) a + S1x16.size a ≤ S72x256.size a := fun i v2584 v2586 k1_hw15 k1_t146 k1_t150 => k1_hw15.2.2.2.2.2.2.2.2.2.2.2.2.2.2.2.2.2.1 k1_t146 k1_t150
theorem k1_off2052_inb : ∀ (i : grid1.Coords) (v2584 : BitVec 32) (v2586 : BitVec 32) (k1_hw15 : k1_chk15 i v2584 v2586) (k1_t146 : Fin (k1_t146_loop v2584 v2586).trips) (k1_t150 : Fin (k1_t150_loop v2584 v2586 k1_t146).trips), ∀ a, (k1_off2052 v2584 v2586 k1_t146 k1_t150) a + S1x16.size a ≤ S72x256.size a := fun i v2584 v2586 k1_hw15 k1_t146 k1_t150 => k1_hw15.2.2.2.2.2.2.2.2.2.2.2.2.2.2.2.2.2.2.1 k1_t146 k1_t150
theorem k1_off2053_inb : ∀ (i : grid1.Coords) (v2584 : BitVec 32) (v2586 : BitVec 32) (k1_hw15 : k1_chk15 i v2584 v2586) (k1_t146 : Fin (k1_t146_loop v2584 v2586).trips) (k1_t150 : Fin (k1_t150_loop v2584 v2586 k1_t146).trips), ∀ a, (k1_off2053 v2584 v2586 k1_t146 k1_t150) a + S1x16.size a ≤ S72x256.size a := fun i v2584 v2586 k1_hw15 k1_t146 k1_t150 => k1_hw15.2.2.2.2.2.2.2.2.2.2.2.2.2.2.2.2.2.2.2.1 k1_t146 k1_t150
theorem k1_off2054_inb : ∀ (i : grid1.Coords) (v2584 : BitVec 32) (v2586 : BitVec 32) (k1_hw15 : k1_chk15 i v2584 v2586) (k1_t146 : Fin (k1_t146_loop v2584 v2586).trips) (k1_t150 : Fin (k1_t150_loop v2584 v2586 k1_t146).trips), ∀ a, (k1_off2054 v2584 v2586 k1_t146 k1_t150) a + S1x16.size a ≤ S72x256.size a := fun i v2584 v2586 k1_hw15 k1_t146 k1_t150 => k1_hw15.2.2.2.2.2.2.2.2.2.2.2.2.2.2.2.2.2.2.2.2.1 k1_t146 k1_t150
theorem k1_off2055_inb : ∀ (i : grid1.Coords) (v2584 : BitVec 32) (v2586 : BitVec 32) (k1_hw15 : k1_chk15 i v2584 v2586) (k1_t146 : Fin (k1_t146_loop v2584 v2586).trips) (k1_t150 : Fin (k1_t150_loop v2584 v2586 k1_t146).trips), ∀ a, (k1_off2055 v2584 v2586 k1_t146 k1_t150) a + S1x16.size a ≤ S72x256.size a := fun i v2584 v2586 k1_hw15 k1_t146 k1_t150 => k1_hw15.2.2.2.2.2.2.2.2.2.2.2.2.2.2.2.2.2.2.2.2.2.1 k1_t146 k1_t150
theorem k1_off2056_inb : ∀ (i : grid1.Coords) (v2584 : BitVec 32) (v2586 : BitVec 32) (k1_hw15 : k1_chk15 i v2584 v2586) (k1_t146 : Fin (k1_t146_loop v2584 v2586).trips) (k1_t150 : Fin (k1_t150_loop v2584 v2586 k1_t146).trips), ∀ a, (k1_off2056 v2584 v2586 k1_t146 k1_t150) a + S1x16.size a ≤ S72x256.size a := fun i v2584 v2586 k1_hw15 k1_t146 k1_t150 => k1_hw15.2.2.2.2.2.2.2.2.2.2.2.2.2.2.2.2.2.2.2.2.2.2 k1_t146 k1_t150

def k1_off2057 (i : grid1.Coords) (v2766 : BitVec 32) : Fin 2 → Nat :=
  let c0_i32_1408 : BitVec 32 := 0#32
  let v2949 : BitVec 32 := Scalar.addi v2766 c0_i32_1408
  let c0_i32_1410 : BitVec 32 := 0#32
  let v2951 : BitVec 1 := Scalar.cmpi .sgt v2949 c0_i32_1410
  let v2952 : BitVec 32 := Scalar.extui v2951
  let c0_i32_1411 : BitVec 32 := 0#32
  let v2953 : BitVec 1 := Scalar.cmpi .slt v2949 c0_i32_1411
  let v2954 : BitVec 32 := Scalar.extui v2953
  let v2955 : BitVec 32 := Scalar.subi v2952 v2954
  let c8_i32_1409 : BitVec 32 := 8#32
  let c0_i32_1412 : BitVec 32 := 0#32
  let v2956 : BitVec 1 := Scalar.cmpi .sgt c8_i32_1409 c0_i32_1412
  let v2957 : BitVec 32 := Scalar.extui v2956
  let c0_i32_1413 : BitVec 32 := 0#32
  let v2958 : BitVec 1 := Scalar.cmpi .slt c8_i32_1409 c0_i32_1413
  let v2959 : BitVec 32 := Scalar.extui v2958
  let v2960 : BitVec 32 := Scalar.subi v2957 v2959
  let v2961 : BitVec 1 := Scalar.cmpi .ne v2955 v2960
  let v2962 : BitVec 32 := Scalar.remsi v2949 c8_i32_1409
  let c0_i32_1414 : BitVec 32 := 0#32
  let v2963 : BitVec 1 := Scalar.cmpi .ne v2962 c0_i32_1414
  let v2964 : BitVec 1 := Scalar.andi v2961 v2963
  let v2950 : BitVec 32 := Scalar.divsi v2949 c8_i32_1409
  let c1_i32_1415 : BitVec 32 := 1#32
  let v2965 : BitVec 32 := Scalar.subi v2950 c1_i32_1415
  let v2966 : BitVec 32 := Scalar.select v2964 v2965 v2950
  let c8_i32_1416 : BitVec 32 := 8#32
  let v2967 : BitVec 32 := Scalar.muli v2966 c8_i32_1416
  let c99928_i32 : BitVec 32 := 99928#32
  let v2968 : BitVec 32 := Scalar.minsi v2967 c99928_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v2968.toNat, v29.toNat]
def k1_cond136 (v2766 : BitVec 32) (v2768 : BitVec 32) : BitVec 1 :=
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c0_i32_1329 : BitVec 32 := 0#32
  let v2791 : BitVec 1 := Scalar.cmpi .sgt v2790 c0_i32_1329
  let v2792 : BitVec 32 := Scalar.extui v2791
  let c0_i32_1330 : BitVec 32 := 0#32
  let v2793 : BitVec 1 := Scalar.cmpi .ne v2792 c0_i32_1330
  v2793

@[reducible] def k1_t151_loop (v2766 : BitVec 32) (v2768 : BitVec 32) : Scf.Loop 32 :=
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1341 : BitVec 32 := 1#32
  ⟨c0_i32_1339, v2816, c1_i32_1341⟩
def k1_off2058 (i : grid1.Coords) (v2766 : BitVec 32) (v2768 : BitVec 32) (k1_t151 : Fin (k1_t151_loop v2766 v2768).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1446 : BitVec 32 := 64#32
  let v3026 : BitVec 32 := Scalar.muli v2949 c64_i32_1446
  let v3027 : BitVec 32 := Scalar.addi v2766 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond137 (v2766 : BitVec 32) (v2768 : BitVec 32) (k1_t151 : Fin (k1_t151_loop v2766 v2768).trips) : BitVec 1 :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let v2950 : BitVec 1 := Scalar.cmpi .slt v2949 v2790
  let v2951 : BitVec 32 := Scalar.extui v2950
  let c0_i32_1409 : BitVec 32 := 0#32
  let v2952 : BitVec 1 := Scalar.cmpi .ne v2951 c0_i32_1409
  v2952

def k1_off2059 (i : grid1.Coords) (v2766 : BitVec 32) (v2768 : BitVec 32) (k1_t151 : Fin (k1_t151_loop v2766 v2768).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v2766 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond138 (v2766 : BitVec 32) (v2768 : BitVec 32) (k1_t151 : Fin (k1_t151_loop v2766 v2768).trips) : BitVec 1 :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c1_i32_1456 : BitVec 32 := 1#32
  let v3049 : BitVec 32 := Scalar.addi v2949 c1_i32_1456
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let v3050 : BitVec 1 := Scalar.cmpi .slt v3049 v2790
  let v3051 : BitVec 32 := Scalar.extui v3050
  let c0_i32_1457 : BitVec 32 := 0#32
  let v3052 : BitVec 1 := Scalar.cmpi .ne v3051 c0_i32_1457
  v3052

@[reducible] def k1_t152_loop (v2766 : BitVec 32) (v2768 : BitVec 32) (k1_t151 : Fin (k1_t151_loop v2766 v2768).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off2060 (v2766 : BitVec 32) (v2768 : BitVec 32) (k1_t151 : Fin (k1_t151_loop v2766 v2768).trips) (k1_t152 : Fin (k1_t152_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t152
  let v3026 : BitVec 32 := Scalar.addi v2976 arg46
  let v3027 : Index := Scalar.indexCast v3026
  let c0_1446 : Index := 0#32
  ![v3027.toNat, 0]
def k1_off2061 (v2766 : BitVec 32) (v2768 : BitVec 32) (k1_t151 : Fin (k1_t151_loop v2766 v2768).trips) (k1_t152 : Fin (k1_t152_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t152
  let v3026 : BitVec 32 := Scalar.addi v2976 arg46
  let v3032 : Index := Scalar.indexCast v3026
  let c16_1447 : Index := 16#32
  ![v3032.toNat, 16]
def k1_off2062 (v2766 : BitVec 32) (v2768 : BitVec 32) (k1_t151 : Fin (k1_t151_loop v2766 v2768).trips) (k1_t152 : Fin (k1_t152_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t152
  let v3026 : BitVec 32 := Scalar.addi v2976 arg46
  let v3037 : Index := Scalar.indexCast v3026
  let c32_1448 : Index := 32#32
  ![v3037.toNat, 32]
def k1_off2063 (v2766 : BitVec 32) (v2768 : BitVec 32) (k1_t151 : Fin (k1_t151_loop v2766 v2768).trips) (k1_t152 : Fin (k1_t152_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t152
  let v3026 : BitVec 32 := Scalar.addi v2976 arg46
  let v3042 : Index := Scalar.indexCast v3026
  let c48_1449 : Index := 48#32
  ![v3042.toNat, 48]
def k1_off2064 (v2766 : BitVec 32) (v2768 : BitVec 32) (k1_t151 : Fin (k1_t151_loop v2766 v2768).trips) (k1_t152 : Fin (k1_t152_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t152
  let v3026 : BitVec 32 := Scalar.addi v2976 arg46
  let v3047 : Index := Scalar.indexCast v3026
  let c64_1450 : Index := 64#32
  ![v3047.toNat, 64]
def k1_off2065 (v2766 : BitVec 32) (v2768 : BitVec 32) (k1_t151 : Fin (k1_t151_loop v2766 v2768).trips) (k1_t152 : Fin (k1_t152_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t152
  let v3026 : BitVec 32 := Scalar.addi v2976 arg46
  let v3052 : Index := Scalar.indexCast v3026
  let c80_1451 : Index := 80#32
  ![v3052.toNat, 80]
def k1_off2066 (v2766 : BitVec 32) (v2768 : BitVec 32) (k1_t151 : Fin (k1_t151_loop v2766 v2768).trips) (k1_t152 : Fin (k1_t152_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t152
  let v3026 : BitVec 32 := Scalar.addi v2976 arg46
  let v3057 : Index := Scalar.indexCast v3026
  let c96_1452 : Index := 96#32
  ![v3057.toNat, 96]
def k1_off2067 (v2766 : BitVec 32) (v2768 : BitVec 32) (k1_t151 : Fin (k1_t151_loop v2766 v2768).trips) (k1_t152 : Fin (k1_t152_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t152
  let v3026 : BitVec 32 := Scalar.addi v2976 arg46
  let v3062 : Index := Scalar.indexCast v3026
  let c112_1453 : Index := 112#32
  ![v3062.toNat, 112]
def k1_off2068 (v2766 : BitVec 32) (v2768 : BitVec 32) (k1_t151 : Fin (k1_t151_loop v2766 v2768).trips) (k1_t152 : Fin (k1_t152_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t152
  let v3026 : BitVec 32 := Scalar.addi v2976 arg46
  let v3067 : Index := Scalar.indexCast v3026
  let c128_1454 : Index := 128#32
  ![v3067.toNat, 128]
def k1_off2069 (v2766 : BitVec 32) (v2768 : BitVec 32) (k1_t151 : Fin (k1_t151_loop v2766 v2768).trips) (k1_t152 : Fin (k1_t152_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t152
  let v3026 : BitVec 32 := Scalar.addi v2976 arg46
  let v3072 : Index := Scalar.indexCast v3026
  let c144_1455 : Index := 144#32
  ![v3072.toNat, 144]
def k1_off2070 (v2766 : BitVec 32) (v2768 : BitVec 32) (k1_t151 : Fin (k1_t151_loop v2766 v2768).trips) (k1_t152 : Fin (k1_t152_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t152
  let v3026 : BitVec 32 := Scalar.addi v2976 arg46
  let v3077 : Index := Scalar.indexCast v3026
  let c160_1456 : Index := 160#32
  ![v3077.toNat, 160]
def k1_off2071 (v2766 : BitVec 32) (v2768 : BitVec 32) (k1_t151 : Fin (k1_t151_loop v2766 v2768).trips) (k1_t152 : Fin (k1_t152_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t152
  let v3026 : BitVec 32 := Scalar.addi v2976 arg46
  let v3082 : Index := Scalar.indexCast v3026
  let c176_1457 : Index := 176#32
  ![v3082.toNat, 176]
def k1_off2072 (v2766 : BitVec 32) (v2768 : BitVec 32) (k1_t151 : Fin (k1_t151_loop v2766 v2768).trips) (k1_t152 : Fin (k1_t152_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t152
  let v3026 : BitVec 32 := Scalar.addi v2976 arg46
  let v3087 : Index := Scalar.indexCast v3026
  let c192_1458 : Index := 192#32
  ![v3087.toNat, 192]
def k1_off2073 (v2766 : BitVec 32) (v2768 : BitVec 32) (k1_t151 : Fin (k1_t151_loop v2766 v2768).trips) (k1_t152 : Fin (k1_t152_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t152
  let v3026 : BitVec 32 := Scalar.addi v2976 arg46
  let v3092 : Index := Scalar.indexCast v3026
  let c208_1459 : Index := 208#32
  ![v3092.toNat, 208]
def k1_off2074 (v2766 : BitVec 32) (v2768 : BitVec 32) (k1_t151 : Fin (k1_t151_loop v2766 v2768).trips) (k1_t152 : Fin (k1_t152_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t152
  let v3026 : BitVec 32 := Scalar.addi v2976 arg46
  let v3097 : Index := Scalar.indexCast v3026
  let c224_1460 : Index := 224#32
  ![v3097.toNat, 224]
def k1_off2075 (v2766 : BitVec 32) (v2768 : BitVec 32) (k1_t151 : Fin (k1_t151_loop v2766 v2768).trips) (k1_t152 : Fin (k1_t152_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t152
  let v3026 : BitVec 32 := Scalar.addi v2976 arg46
  let v3102 : Index := Scalar.indexCast v3026
  let c240_1461 : Index := 240#32
  ![v3102.toNat, 240]
@[reducible] def k1_t153_loop (v2766 : BitVec 32) (v2768 : BitVec 32) (k1_t151 : Fin (k1_t151_loop v2766 v2768).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off2076 (v2766 : BitVec 32) (v2768 : BitVec 32) (k1_t151 : Fin (k1_t151_loop v2766 v2768).trips) (k1_t153 : Fin (k1_t153_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t153
  let v3026 : BitVec 32 := Scalar.addi v2976 arg46
  let v3027 : Index := Scalar.indexCast v3026
  let c0_1446 : Index := 0#32
  ![v3027.toNat, 0]
def k1_off2077 (v2766 : BitVec 32) (v2768 : BitVec 32) (k1_t151 : Fin (k1_t151_loop v2766 v2768).trips) (k1_t153 : Fin (k1_t153_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t153
  let v3026 : BitVec 32 := Scalar.addi v2976 arg46
  let v3032 : Index := Scalar.indexCast v3026
  let c16_1447 : Index := 16#32
  ![v3032.toNat, 16]
def k1_off2078 (v2766 : BitVec 32) (v2768 : BitVec 32) (k1_t151 : Fin (k1_t151_loop v2766 v2768).trips) (k1_t153 : Fin (k1_t153_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t153
  let v3026 : BitVec 32 := Scalar.addi v2976 arg46
  let v3037 : Index := Scalar.indexCast v3026
  let c32_1448 : Index := 32#32
  ![v3037.toNat, 32]
def k1_off2079 (v2766 : BitVec 32) (v2768 : BitVec 32) (k1_t151 : Fin (k1_t151_loop v2766 v2768).trips) (k1_t153 : Fin (k1_t153_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t153
  let v3026 : BitVec 32 := Scalar.addi v2976 arg46
  let v3042 : Index := Scalar.indexCast v3026
  let c48_1449 : Index := 48#32
  ![v3042.toNat, 48]
def k1_off2080 (v2766 : BitVec 32) (v2768 : BitVec 32) (k1_t151 : Fin (k1_t151_loop v2766 v2768).trips) (k1_t153 : Fin (k1_t153_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t153
  let v3026 : BitVec 32 := Scalar.addi v2976 arg46
  let v3047 : Index := Scalar.indexCast v3026
  let c64_1450 : Index := 64#32
  ![v3047.toNat, 64]
def k1_off2081 (v2766 : BitVec 32) (v2768 : BitVec 32) (k1_t151 : Fin (k1_t151_loop v2766 v2768).trips) (k1_t153 : Fin (k1_t153_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t153
  let v3026 : BitVec 32 := Scalar.addi v2976 arg46
  let v3052 : Index := Scalar.indexCast v3026
  let c80_1451 : Index := 80#32
  ![v3052.toNat, 80]
def k1_off2082 (v2766 : BitVec 32) (v2768 : BitVec 32) (k1_t151 : Fin (k1_t151_loop v2766 v2768).trips) (k1_t153 : Fin (k1_t153_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t153
  let v3026 : BitVec 32 := Scalar.addi v2976 arg46
  let v3057 : Index := Scalar.indexCast v3026
  let c96_1452 : Index := 96#32
  ![v3057.toNat, 96]
def k1_off2083 (v2766 : BitVec 32) (v2768 : BitVec 32) (k1_t151 : Fin (k1_t151_loop v2766 v2768).trips) (k1_t153 : Fin (k1_t153_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t153
  let v3026 : BitVec 32 := Scalar.addi v2976 arg46
  let v3062 : Index := Scalar.indexCast v3026
  let c112_1453 : Index := 112#32
  ![v3062.toNat, 112]
def k1_off2084 (v2766 : BitVec 32) (v2768 : BitVec 32) (k1_t151 : Fin (k1_t151_loop v2766 v2768).trips) (k1_t153 : Fin (k1_t153_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t153
  let v3026 : BitVec 32 := Scalar.addi v2976 arg46
  let v3067 : Index := Scalar.indexCast v3026
  let c128_1454 : Index := 128#32
  ![v3067.toNat, 128]
def k1_off2085 (v2766 : BitVec 32) (v2768 : BitVec 32) (k1_t151 : Fin (k1_t151_loop v2766 v2768).trips) (k1_t153 : Fin (k1_t153_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t153
  let v3026 : BitVec 32 := Scalar.addi v2976 arg46
  let v3072 : Index := Scalar.indexCast v3026
  let c144_1455 : Index := 144#32
  ![v3072.toNat, 144]
def k1_off2086 (v2766 : BitVec 32) (v2768 : BitVec 32) (k1_t151 : Fin (k1_t151_loop v2766 v2768).trips) (k1_t153 : Fin (k1_t153_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t153
  let v3026 : BitVec 32 := Scalar.addi v2976 arg46
  let v3077 : Index := Scalar.indexCast v3026
  let c160_1456 : Index := 160#32
  ![v3077.toNat, 160]
def k1_off2087 (v2766 : BitVec 32) (v2768 : BitVec 32) (k1_t151 : Fin (k1_t151_loop v2766 v2768).trips) (k1_t153 : Fin (k1_t153_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t153
  let v3026 : BitVec 32 := Scalar.addi v2976 arg46
  let v3082 : Index := Scalar.indexCast v3026
  let c176_1457 : Index := 176#32
  ![v3082.toNat, 176]
def k1_off2088 (v2766 : BitVec 32) (v2768 : BitVec 32) (k1_t151 : Fin (k1_t151_loop v2766 v2768).trips) (k1_t153 : Fin (k1_t153_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t153
  let v3026 : BitVec 32 := Scalar.addi v2976 arg46
  let v3087 : Index := Scalar.indexCast v3026
  let c192_1458 : Index := 192#32
  ![v3087.toNat, 192]
def k1_off2089 (v2766 : BitVec 32) (v2768 : BitVec 32) (k1_t151 : Fin (k1_t151_loop v2766 v2768).trips) (k1_t153 : Fin (k1_t153_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t153
  let v3026 : BitVec 32 := Scalar.addi v2976 arg46
  let v3092 : Index := Scalar.indexCast v3026
  let c208_1459 : Index := 208#32
  ![v3092.toNat, 208]
def k1_off2090 (v2766 : BitVec 32) (v2768 : BitVec 32) (k1_t151 : Fin (k1_t151_loop v2766 v2768).trips) (k1_t153 : Fin (k1_t153_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t153
  let v3026 : BitVec 32 := Scalar.addi v2976 arg46
  let v3097 : Index := Scalar.indexCast v3026
  let c224_1460 : Index := 224#32
  ![v3097.toNat, 224]
def k1_off2091 (v2766 : BitVec 32) (v2768 : BitVec 32) (k1_t151 : Fin (k1_t151_loop v2766 v2768).trips) (k1_t153 : Fin (k1_t153_loop v2766 v2768 k1_t151).trips) : Fin 2 → Nat :=
  let c2_i32_1408 : BitVec 32 := 2#32
  let c0_i32_1339 : BitVec 32 := 0#32
  let c1_i32_1341 : BitVec 32 := 1#32
  let arg13 : BitVec 32 := Scf.iv c0_i32_1339 c1_i32_1341 k1_t151
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t153
  let v3026 : BitVec 32 := Scalar.addi v2976 arg46
  let v3102 : Index := Scalar.indexCast v3026
  let c240_1461 : Index := 240#32
  ![v3102.toNat, 240]
def k1_off2092 (i : grid1.Coords) (v2766 : BitVec 32) (v2768 : BitVec 32) (k1_t151 : Fin (k1_t151_loop v2766 v2768).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v2766 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond139 (v2766 : BitVec 32) (v2768 : BitVec 32) (k1_t151 : Fin (k1_t151_loop v2766 v2768).trips) : BitVec 1 :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let v2989 : BitVec 1 := Scalar.cmpi .slt v2988 v2790
  let v2990 : BitVec 32 := Scalar.extui v2989
  let c0_i32_1428 : BitVec 32 := 0#32
  let v2991 : BitVec 1 := Scalar.cmpi .ne v2990 c0_i32_1428
  v2991

def k1_off2093 (i : grid1.Coords) (v2766 : BitVec 32) (v2768 : BitVec 32) (k1_t151 : Fin (k1_t151_loop v2766 v2768).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v2766 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond140 (v2766 : BitVec 32) (v2768 : BitVec 32) (k1_t151 : Fin (k1_t151_loop v2766 v2768).trips) : BitVec 1 :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let v3050 : BitVec 1 := Scalar.cmpi .slt v3049 v2790
  let v3051 : BitVec 32 := Scalar.extui v3050
  let c0_i32_1457 : BitVec 32 := 0#32
  let v3052 : BitVec 1 := Scalar.cmpi .ne v3051 c0_i32_1457
  v3052

@[reducible] def k1_t154_loop (v2766 : BitVec 32) (v2768 : BitVec 32) (k1_t151 : Fin (k1_t151_loop v2766 v2768).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off2094 (v2766 : BitVec 32) (v2768 : BitVec 32) (k1_t151 : Fin (k1_t151_loop v2766 v2768).trips) (k1_t154 : Fin (k1_t154_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t154
  let v3026 : BitVec 32 := Scalar.addi v3015 arg46
  let v3027 : Index := Scalar.indexCast v3026
  let c0_1446 : Index := 0#32
  ![v3027.toNat, 0]
def k1_off2095 (v2766 : BitVec 32) (v2768 : BitVec 32) (k1_t151 : Fin (k1_t151_loop v2766 v2768).trips) (k1_t154 : Fin (k1_t154_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t154
  let v3026 : BitVec 32 := Scalar.addi v3015 arg46
  let v3032 : Index := Scalar.indexCast v3026
  let c16_1447 : Index := 16#32
  ![v3032.toNat, 16]
def k1_off2096 (v2766 : BitVec 32) (v2768 : BitVec 32) (k1_t151 : Fin (k1_t151_loop v2766 v2768).trips) (k1_t154 : Fin (k1_t154_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t154
  let v3026 : BitVec 32 := Scalar.addi v3015 arg46
  let v3037 : Index := Scalar.indexCast v3026
  let c32_1448 : Index := 32#32
  ![v3037.toNat, 32]
def k1_off2097 (v2766 : BitVec 32) (v2768 : BitVec 32) (k1_t151 : Fin (k1_t151_loop v2766 v2768).trips) (k1_t154 : Fin (k1_t154_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t154
  let v3026 : BitVec 32 := Scalar.addi v3015 arg46
  let v3042 : Index := Scalar.indexCast v3026
  let c48_1449 : Index := 48#32
  ![v3042.toNat, 48]
def k1_off2098 (v2766 : BitVec 32) (v2768 : BitVec 32) (k1_t151 : Fin (k1_t151_loop v2766 v2768).trips) (k1_t154 : Fin (k1_t154_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t154
  let v3026 : BitVec 32 := Scalar.addi v3015 arg46
  let v3047 : Index := Scalar.indexCast v3026
  let c64_1450 : Index := 64#32
  ![v3047.toNat, 64]
def k1_off2099 (v2766 : BitVec 32) (v2768 : BitVec 32) (k1_t151 : Fin (k1_t151_loop v2766 v2768).trips) (k1_t154 : Fin (k1_t154_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t154
  let v3026 : BitVec 32 := Scalar.addi v3015 arg46
  let v3052 : Index := Scalar.indexCast v3026
  let c80_1451 : Index := 80#32
  ![v3052.toNat, 80]
def k1_off2100 (v2766 : BitVec 32) (v2768 : BitVec 32) (k1_t151 : Fin (k1_t151_loop v2766 v2768).trips) (k1_t154 : Fin (k1_t154_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t154
  let v3026 : BitVec 32 := Scalar.addi v3015 arg46
  let v3057 : Index := Scalar.indexCast v3026
  let c96_1452 : Index := 96#32
  ![v3057.toNat, 96]
def k1_off2101 (v2766 : BitVec 32) (v2768 : BitVec 32) (k1_t151 : Fin (k1_t151_loop v2766 v2768).trips) (k1_t154 : Fin (k1_t154_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t154
  let v3026 : BitVec 32 := Scalar.addi v3015 arg46
  let v3062 : Index := Scalar.indexCast v3026
  let c112_1453 : Index := 112#32
  ![v3062.toNat, 112]
def k1_off2102 (v2766 : BitVec 32) (v2768 : BitVec 32) (k1_t151 : Fin (k1_t151_loop v2766 v2768).trips) (k1_t154 : Fin (k1_t154_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t154
  let v3026 : BitVec 32 := Scalar.addi v3015 arg46
  let v3067 : Index := Scalar.indexCast v3026
  let c128_1454 : Index := 128#32
  ![v3067.toNat, 128]
def k1_off2103 (v2766 : BitVec 32) (v2768 : BitVec 32) (k1_t151 : Fin (k1_t151_loop v2766 v2768).trips) (k1_t154 : Fin (k1_t154_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t154
  let v3026 : BitVec 32 := Scalar.addi v3015 arg46
  let v3072 : Index := Scalar.indexCast v3026
  let c144_1455 : Index := 144#32
  ![v3072.toNat, 144]
def k1_off2104 (v2766 : BitVec 32) (v2768 : BitVec 32) (k1_t151 : Fin (k1_t151_loop v2766 v2768).trips) (k1_t154 : Fin (k1_t154_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t154
  let v3026 : BitVec 32 := Scalar.addi v3015 arg46
  let v3077 : Index := Scalar.indexCast v3026
  let c160_1456 : Index := 160#32
  ![v3077.toNat, 160]
def k1_off2105 (v2766 : BitVec 32) (v2768 : BitVec 32) (k1_t151 : Fin (k1_t151_loop v2766 v2768).trips) (k1_t154 : Fin (k1_t154_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t154
  let v3026 : BitVec 32 := Scalar.addi v3015 arg46
  let v3082 : Index := Scalar.indexCast v3026
  let c176_1457 : Index := 176#32
  ![v3082.toNat, 176]
def k1_off2106 (v2766 : BitVec 32) (v2768 : BitVec 32) (k1_t151 : Fin (k1_t151_loop v2766 v2768).trips) (k1_t154 : Fin (k1_t154_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t154
  let v3026 : BitVec 32 := Scalar.addi v3015 arg46
  let v3087 : Index := Scalar.indexCast v3026
  let c192_1458 : Index := 192#32
  ![v3087.toNat, 192]
def k1_off2107 (v2766 : BitVec 32) (v2768 : BitVec 32) (k1_t151 : Fin (k1_t151_loop v2766 v2768).trips) (k1_t154 : Fin (k1_t154_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t154
  let v3026 : BitVec 32 := Scalar.addi v3015 arg46
  let v3092 : Index := Scalar.indexCast v3026
  let c208_1459 : Index := 208#32
  ![v3092.toNat, 208]
def k1_off2108 (v2766 : BitVec 32) (v2768 : BitVec 32) (k1_t151 : Fin (k1_t151_loop v2766 v2768).trips) (k1_t154 : Fin (k1_t154_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t154
  let v3026 : BitVec 32 := Scalar.addi v3015 arg46
  let v3097 : Index := Scalar.indexCast v3026
  let c224_1460 : Index := 224#32
  ![v3097.toNat, 224]
def k1_off2109 (v2766 : BitVec 32) (v2768 : BitVec 32) (k1_t151 : Fin (k1_t151_loop v2766 v2768).trips) (k1_t154 : Fin (k1_t154_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t154
  let v3026 : BitVec 32 := Scalar.addi v3015 arg46
  let v3102 : Index := Scalar.indexCast v3026
  let c240_1461 : Index := 240#32
  ![v3102.toNat, 240]
@[reducible] def k1_t155_loop (v2766 : BitVec 32) (v2768 : BitVec 32) (k1_t151 : Fin (k1_t151_loop v2766 v2768).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off2110 (v2766 : BitVec 32) (v2768 : BitVec 32) (k1_t151 : Fin (k1_t151_loop v2766 v2768).trips) (k1_t155 : Fin (k1_t155_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t155
  let v3026 : BitVec 32 := Scalar.addi v3015 arg46
  let v3027 : Index := Scalar.indexCast v3026
  let c0_1446 : Index := 0#32
  ![v3027.toNat, 0]
def k1_off2111 (v2766 : BitVec 32) (v2768 : BitVec 32) (k1_t151 : Fin (k1_t151_loop v2766 v2768).trips) (k1_t155 : Fin (k1_t155_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t155
  let v3026 : BitVec 32 := Scalar.addi v3015 arg46
  let v3032 : Index := Scalar.indexCast v3026
  let c16_1447 : Index := 16#32
  ![v3032.toNat, 16]
def k1_off2112 (v2766 : BitVec 32) (v2768 : BitVec 32) (k1_t151 : Fin (k1_t151_loop v2766 v2768).trips) (k1_t155 : Fin (k1_t155_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t155
  let v3026 : BitVec 32 := Scalar.addi v3015 arg46
  let v3037 : Index := Scalar.indexCast v3026
  let c32_1448 : Index := 32#32
  ![v3037.toNat, 32]
def k1_off2113 (v2766 : BitVec 32) (v2768 : BitVec 32) (k1_t151 : Fin (k1_t151_loop v2766 v2768).trips) (k1_t155 : Fin (k1_t155_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t155
  let v3026 : BitVec 32 := Scalar.addi v3015 arg46
  let v3042 : Index := Scalar.indexCast v3026
  let c48_1449 : Index := 48#32
  ![v3042.toNat, 48]
def k1_off2114 (v2766 : BitVec 32) (v2768 : BitVec 32) (k1_t151 : Fin (k1_t151_loop v2766 v2768).trips) (k1_t155 : Fin (k1_t155_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t155
  let v3026 : BitVec 32 := Scalar.addi v3015 arg46
  let v3047 : Index := Scalar.indexCast v3026
  let c64_1450 : Index := 64#32
  ![v3047.toNat, 64]
def k1_off2115 (v2766 : BitVec 32) (v2768 : BitVec 32) (k1_t151 : Fin (k1_t151_loop v2766 v2768).trips) (k1_t155 : Fin (k1_t155_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t155
  let v3026 : BitVec 32 := Scalar.addi v3015 arg46
  let v3052 : Index := Scalar.indexCast v3026
  let c80_1451 : Index := 80#32
  ![v3052.toNat, 80]
def k1_off2116 (v2766 : BitVec 32) (v2768 : BitVec 32) (k1_t151 : Fin (k1_t151_loop v2766 v2768).trips) (k1_t155 : Fin (k1_t155_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t155
  let v3026 : BitVec 32 := Scalar.addi v3015 arg46
  let v3057 : Index := Scalar.indexCast v3026
  let c96_1452 : Index := 96#32
  ![v3057.toNat, 96]
def k1_off2117 (v2766 : BitVec 32) (v2768 : BitVec 32) (k1_t151 : Fin (k1_t151_loop v2766 v2768).trips) (k1_t155 : Fin (k1_t155_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t155
  let v3026 : BitVec 32 := Scalar.addi v3015 arg46
  let v3062 : Index := Scalar.indexCast v3026
  let c112_1453 : Index := 112#32
  ![v3062.toNat, 112]
def k1_off2118 (v2766 : BitVec 32) (v2768 : BitVec 32) (k1_t151 : Fin (k1_t151_loop v2766 v2768).trips) (k1_t155 : Fin (k1_t155_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t155
  let v3026 : BitVec 32 := Scalar.addi v3015 arg46
  let v3067 : Index := Scalar.indexCast v3026
  let c128_1454 : Index := 128#32
  ![v3067.toNat, 128]
def k1_off2119 (v2766 : BitVec 32) (v2768 : BitVec 32) (k1_t151 : Fin (k1_t151_loop v2766 v2768).trips) (k1_t155 : Fin (k1_t155_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t155
  let v3026 : BitVec 32 := Scalar.addi v3015 arg46
  let v3072 : Index := Scalar.indexCast v3026
  let c144_1455 : Index := 144#32
  ![v3072.toNat, 144]
def k1_off2120 (v2766 : BitVec 32) (v2768 : BitVec 32) (k1_t151 : Fin (k1_t151_loop v2766 v2768).trips) (k1_t155 : Fin (k1_t155_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t155
  let v3026 : BitVec 32 := Scalar.addi v3015 arg46
  let v3077 : Index := Scalar.indexCast v3026
  let c160_1456 : Index := 160#32
  ![v3077.toNat, 160]
def k1_off2121 (v2766 : BitVec 32) (v2768 : BitVec 32) (k1_t151 : Fin (k1_t151_loop v2766 v2768).trips) (k1_t155 : Fin (k1_t155_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t155
  let v3026 : BitVec 32 := Scalar.addi v3015 arg46
  let v3082 : Index := Scalar.indexCast v3026
  let c176_1457 : Index := 176#32
  ![v3082.toNat, 176]
def k1_off2122 (v2766 : BitVec 32) (v2768 : BitVec 32) (k1_t151 : Fin (k1_t151_loop v2766 v2768).trips) (k1_t155 : Fin (k1_t155_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t155
  let v3026 : BitVec 32 := Scalar.addi v3015 arg46
  let v3087 : Index := Scalar.indexCast v3026
  let c192_1458 : Index := 192#32
  ![v3087.toNat, 192]
def k1_off2123 (v2766 : BitVec 32) (v2768 : BitVec 32) (k1_t151 : Fin (k1_t151_loop v2766 v2768).trips) (k1_t155 : Fin (k1_t155_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t155
  let v3026 : BitVec 32 := Scalar.addi v3015 arg46
  let v3092 : Index := Scalar.indexCast v3026
  let c208_1459 : Index := 208#32
  ![v3092.toNat, 208]
def k1_off2124 (v2766 : BitVec 32) (v2768 : BitVec 32) (k1_t151 : Fin (k1_t151_loop v2766 v2768).trips) (k1_t155 : Fin (k1_t155_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t155
  let v3026 : BitVec 32 := Scalar.addi v3015 arg46
  let v3097 : Index := Scalar.indexCast v3026
  let c224_1460 : Index := 224#32
  ![v3097.toNat, 224]
def k1_off2125 (v2766 : BitVec 32) (v2768 : BitVec 32) (k1_t151 : Fin (k1_t151_loop v2766 v2768).trips) (k1_t155 : Fin (k1_t155_loop v2766 v2768 k1_t151).trips) : Fin 2 → Nat :=
  let c2_i32_1426 : BitVec 32 := 2#32
  let c0_i32_1339 : BitVec 32 := 0#32
  let c1_i32_1341 : BitVec 32 := 1#32
  let arg13 : BitVec 32 := Scf.iv c0_i32_1339 c1_i32_1341 k1_t151
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t155
  let v3026 : BitVec 32 := Scalar.addi v3015 arg46
  let v3102 : Index := Scalar.indexCast v3026
  let c240_1461 : Index := 240#32
  ![v3102.toNat, 240]
@[reducible] def k1_t156_loop (v2766 : BitVec 32) (v2768 : BitVec 32) : Scf.Loop 32 :=
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let v2813 : BitVec 32 := Scalar.addi c0_i32_1339 v2812
  let c1_i32_1342 : BitVec 32 := 1#32
  ⟨v2816, v2813, c1_i32_1342⟩
def k1_off2126 (i : grid1.Coords) (v2766 : BitVec 32) (v2768 : BitVec 32) (k1_t156 : Fin (k1_t156_loop v2766 v2768).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1446 : BitVec 32 := 64#32
  let v3026 : BitVec 32 := Scalar.muli v2949 c64_i32_1446
  let v3027 : BitVec 32 := Scalar.addi v2766 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond141 (v2766 : BitVec 32) (v2768 : BitVec 32) (k1_t156 : Fin (k1_t156_loop v2766 v2768).trips) : BitVec 1 :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let v2950 : BitVec 1 := Scalar.cmpi .slt v2949 v2790
  let v2951 : BitVec 32 := Scalar.extui v2950
  let c0_i32_1409 : BitVec 32 := 0#32
  let v2952 : BitVec 1 := Scalar.cmpi .ne v2951 c0_i32_1409
  v2952

def k1_off2127 (i : grid1.Coords) (v2766 : BitVec 32) (v2768 : BitVec 32) (k1_t156 : Fin (k1_t156_loop v2766 v2768).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c1_i32_1458 : BitVec 32 := 1#32
  let v3053 : BitVec 32 := Scalar.addi v2949 c1_i32_1458
  let c64_i32_1459 : BitVec 32 := 64#32
  let v3054 : BitVec 32 := Scalar.muli v3053 c64_i32_1459
  let v3055 : BitVec 32 := Scalar.addi v2766 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond142 (v2766 : BitVec 32) (v2768 : BitVec 32) (k1_t156 : Fin (k1_t156_loop v2766 v2768).trips) : BitVec 1 :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c1_i32_1456 : BitVec 32 := 1#32
  let v3049 : BitVec 32 := Scalar.addi v2949 c1_i32_1456
  let v3050 : BitVec 1 := Scalar.cmpi .slt v3049 v2790
  let v3051 : BitVec 32 := Scalar.extui v3050
  let c0_i32_1457 : BitVec 32 := 0#32
  let v3052 : BitVec 1 := Scalar.cmpi .ne v3051 c0_i32_1457
  v3052

@[reducible] def k1_t157_loop (v2766 : BitVec 32) (v2768 : BitVec 32) (k1_t156 : Fin (k1_t156_loop v2766 v2768).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1424 : BitVec 32 := 1#32
  ⟨c0_i32_1422, v2984, c1_i32_1424⟩
def k1_off2128 (v2766 : BitVec 32) (v2768 : BitVec 32) (k1_t156 : Fin (k1_t156_loop v2766 v2768).trips) (k1_t157 : Fin (k1_t157_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t157
  let v3026 : BitVec 32 := Scalar.addi v2976 arg46
  let v3027 : Index := Scalar.indexCast v3026
  let c0_1446 : Index := 0#32
  ![v3027.toNat, 0]
def k1_off2129 (v2766 : BitVec 32) (v2768 : BitVec 32) (k1_t156 : Fin (k1_t156_loop v2766 v2768).trips) (k1_t157 : Fin (k1_t157_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t157
  let v3026 : BitVec 32 := Scalar.addi v2976 arg46
  let v3032 : Index := Scalar.indexCast v3026
  let c16_1447 : Index := 16#32
  ![v3032.toNat, 16]
def k1_off2130 (v2766 : BitVec 32) (v2768 : BitVec 32) (k1_t156 : Fin (k1_t156_loop v2766 v2768).trips) (k1_t157 : Fin (k1_t157_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t157
  let v3026 : BitVec 32 := Scalar.addi v2976 arg46
  let v3037 : Index := Scalar.indexCast v3026
  let c32_1448 : Index := 32#32
  ![v3037.toNat, 32]
def k1_off2131 (v2766 : BitVec 32) (v2768 : BitVec 32) (k1_t156 : Fin (k1_t156_loop v2766 v2768).trips) (k1_t157 : Fin (k1_t157_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t157
  let v3026 : BitVec 32 := Scalar.addi v2976 arg46
  let v3042 : Index := Scalar.indexCast v3026
  let c48_1449 : Index := 48#32
  ![v3042.toNat, 48]
def k1_off2132 (v2766 : BitVec 32) (v2768 : BitVec 32) (k1_t156 : Fin (k1_t156_loop v2766 v2768).trips) (k1_t157 : Fin (k1_t157_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t157
  let v3026 : BitVec 32 := Scalar.addi v2976 arg46
  let v3047 : Index := Scalar.indexCast v3026
  let c64_1450 : Index := 64#32
  ![v3047.toNat, 64]
def k1_off2133 (v2766 : BitVec 32) (v2768 : BitVec 32) (k1_t156 : Fin (k1_t156_loop v2766 v2768).trips) (k1_t157 : Fin (k1_t157_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t157
  let v3026 : BitVec 32 := Scalar.addi v2976 arg46
  let v3052 : Index := Scalar.indexCast v3026
  let c80_1451 : Index := 80#32
  ![v3052.toNat, 80]
def k1_off2134 (v2766 : BitVec 32) (v2768 : BitVec 32) (k1_t156 : Fin (k1_t156_loop v2766 v2768).trips) (k1_t157 : Fin (k1_t157_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t157
  let v3026 : BitVec 32 := Scalar.addi v2976 arg46
  let v3057 : Index := Scalar.indexCast v3026
  let c96_1452 : Index := 96#32
  ![v3057.toNat, 96]
def k1_off2135 (v2766 : BitVec 32) (v2768 : BitVec 32) (k1_t156 : Fin (k1_t156_loop v2766 v2768).trips) (k1_t157 : Fin (k1_t157_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t157
  let v3026 : BitVec 32 := Scalar.addi v2976 arg46
  let v3062 : Index := Scalar.indexCast v3026
  let c112_1453 : Index := 112#32
  ![v3062.toNat, 112]
def k1_off2136 (v2766 : BitVec 32) (v2768 : BitVec 32) (k1_t156 : Fin (k1_t156_loop v2766 v2768).trips) (k1_t157 : Fin (k1_t157_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t157
  let v3026 : BitVec 32 := Scalar.addi v2976 arg46
  let v3067 : Index := Scalar.indexCast v3026
  let c128_1454 : Index := 128#32
  ![v3067.toNat, 128]
def k1_off2137 (v2766 : BitVec 32) (v2768 : BitVec 32) (k1_t156 : Fin (k1_t156_loop v2766 v2768).trips) (k1_t157 : Fin (k1_t157_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t157
  let v3026 : BitVec 32 := Scalar.addi v2976 arg46
  let v3072 : Index := Scalar.indexCast v3026
  let c144_1455 : Index := 144#32
  ![v3072.toNat, 144]
def k1_off2138 (v2766 : BitVec 32) (v2768 : BitVec 32) (k1_t156 : Fin (k1_t156_loop v2766 v2768).trips) (k1_t157 : Fin (k1_t157_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t157
  let v3026 : BitVec 32 := Scalar.addi v2976 arg46
  let v3077 : Index := Scalar.indexCast v3026
  let c160_1456 : Index := 160#32
  ![v3077.toNat, 160]
def k1_off2139 (v2766 : BitVec 32) (v2768 : BitVec 32) (k1_t156 : Fin (k1_t156_loop v2766 v2768).trips) (k1_t157 : Fin (k1_t157_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t157
  let v3026 : BitVec 32 := Scalar.addi v2976 arg46
  let v3082 : Index := Scalar.indexCast v3026
  let c176_1457 : Index := 176#32
  ![v3082.toNat, 176]
def k1_off2140 (v2766 : BitVec 32) (v2768 : BitVec 32) (k1_t156 : Fin (k1_t156_loop v2766 v2768).trips) (k1_t157 : Fin (k1_t157_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t157
  let v3026 : BitVec 32 := Scalar.addi v2976 arg46
  let v3087 : Index := Scalar.indexCast v3026
  let c192_1458 : Index := 192#32
  ![v3087.toNat, 192]
def k1_off2141 (v2766 : BitVec 32) (v2768 : BitVec 32) (k1_t156 : Fin (k1_t156_loop v2766 v2768).trips) (k1_t157 : Fin (k1_t157_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t157
  let v3026 : BitVec 32 := Scalar.addi v2976 arg46
  let v3092 : Index := Scalar.indexCast v3026
  let c208_1459 : Index := 208#32
  ![v3092.toNat, 208]
def k1_off2142 (v2766 : BitVec 32) (v2768 : BitVec 32) (k1_t156 : Fin (k1_t156_loop v2766 v2768).trips) (k1_t157 : Fin (k1_t157_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t157
  let v3026 : BitVec 32 := Scalar.addi v2976 arg46
  let v3097 : Index := Scalar.indexCast v3026
  let c224_1460 : Index := 224#32
  ![v3097.toNat, 224]
def k1_off2143 (v2766 : BitVec 32) (v2768 : BitVec 32) (k1_t156 : Fin (k1_t156_loop v2766 v2768).trips) (k1_t157 : Fin (k1_t157_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c1_i32_1424 : BitVec 32 := 1#32
  let arg46 : BitVec 32 := Scf.iv c0_i32_1422 c1_i32_1424 k1_t157
  let v3026 : BitVec 32 := Scalar.addi v2976 arg46
  let v3102 : Index := Scalar.indexCast v3026
  let c240_1461 : Index := 240#32
  ![v3102.toNat, 240]
@[reducible] def k1_t158_loop (v2766 : BitVec 32) (v2768 : BitVec 32) (k1_t156 : Fin (k1_t156_loop v2766 v2768).trips) : Scf.Loop 32 :=
  let c0_i32_1422 : BitVec 32 := 0#32
  let c0_i32_1421 : BitVec 32 := 0#32
  let c64_i32_1420 : BitVec 32 := 64#32
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let v2981 : BitVec 32 := Scalar.addi c0_i32_1422 v2980
  let c1_i32_1425 : BitVec 32 := 1#32
  ⟨v2984, v2981, c1_i32_1425⟩
def k1_off2144 (v2766 : BitVec 32) (v2768 : BitVec 32) (k1_t156 : Fin (k1_t156_loop v2766 v2768).trips) (k1_t158 : Fin (k1_t158_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t158
  let v3026 : BitVec 32 := Scalar.addi v2976 arg46
  let v3027 : Index := Scalar.indexCast v3026
  let c0_1446 : Index := 0#32
  ![v3027.toNat, 0]
def k1_off2145 (v2766 : BitVec 32) (v2768 : BitVec 32) (k1_t156 : Fin (k1_t156_loop v2766 v2768).trips) (k1_t158 : Fin (k1_t158_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t158
  let v3026 : BitVec 32 := Scalar.addi v2976 arg46
  let v3032 : Index := Scalar.indexCast v3026
  let c16_1447 : Index := 16#32
  ![v3032.toNat, 16]
def k1_off2146 (v2766 : BitVec 32) (v2768 : BitVec 32) (k1_t156 : Fin (k1_t156_loop v2766 v2768).trips) (k1_t158 : Fin (k1_t158_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t158
  let v3026 : BitVec 32 := Scalar.addi v2976 arg46
  let v3037 : Index := Scalar.indexCast v3026
  let c32_1448 : Index := 32#32
  ![v3037.toNat, 32]
def k1_off2147 (v2766 : BitVec 32) (v2768 : BitVec 32) (k1_t156 : Fin (k1_t156_loop v2766 v2768).trips) (k1_t158 : Fin (k1_t158_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t158
  let v3026 : BitVec 32 := Scalar.addi v2976 arg46
  let v3042 : Index := Scalar.indexCast v3026
  let c48_1449 : Index := 48#32
  ![v3042.toNat, 48]
def k1_off2148 (v2766 : BitVec 32) (v2768 : BitVec 32) (k1_t156 : Fin (k1_t156_loop v2766 v2768).trips) (k1_t158 : Fin (k1_t158_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t158
  let v3026 : BitVec 32 := Scalar.addi v2976 arg46
  let v3047 : Index := Scalar.indexCast v3026
  let c64_1450 : Index := 64#32
  ![v3047.toNat, 64]
def k1_off2149 (v2766 : BitVec 32) (v2768 : BitVec 32) (k1_t156 : Fin (k1_t156_loop v2766 v2768).trips) (k1_t158 : Fin (k1_t158_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t158
  let v3026 : BitVec 32 := Scalar.addi v2976 arg46
  let v3052 : Index := Scalar.indexCast v3026
  let c80_1451 : Index := 80#32
  ![v3052.toNat, 80]
def k1_off2150 (v2766 : BitVec 32) (v2768 : BitVec 32) (k1_t156 : Fin (k1_t156_loop v2766 v2768).trips) (k1_t158 : Fin (k1_t158_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t158
  let v3026 : BitVec 32 := Scalar.addi v2976 arg46
  let v3057 : Index := Scalar.indexCast v3026
  let c96_1452 : Index := 96#32
  ![v3057.toNat, 96]
def k1_off2151 (v2766 : BitVec 32) (v2768 : BitVec 32) (k1_t156 : Fin (k1_t156_loop v2766 v2768).trips) (k1_t158 : Fin (k1_t158_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t158
  let v3026 : BitVec 32 := Scalar.addi v2976 arg46
  let v3062 : Index := Scalar.indexCast v3026
  let c112_1453 : Index := 112#32
  ![v3062.toNat, 112]
def k1_off2152 (v2766 : BitVec 32) (v2768 : BitVec 32) (k1_t156 : Fin (k1_t156_loop v2766 v2768).trips) (k1_t158 : Fin (k1_t158_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t158
  let v3026 : BitVec 32 := Scalar.addi v2976 arg46
  let v3067 : Index := Scalar.indexCast v3026
  let c128_1454 : Index := 128#32
  ![v3067.toNat, 128]
def k1_off2153 (v2766 : BitVec 32) (v2768 : BitVec 32) (k1_t156 : Fin (k1_t156_loop v2766 v2768).trips) (k1_t158 : Fin (k1_t158_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t158
  let v3026 : BitVec 32 := Scalar.addi v2976 arg46
  let v3072 : Index := Scalar.indexCast v3026
  let c144_1455 : Index := 144#32
  ![v3072.toNat, 144]
def k1_off2154 (v2766 : BitVec 32) (v2768 : BitVec 32) (k1_t156 : Fin (k1_t156_loop v2766 v2768).trips) (k1_t158 : Fin (k1_t158_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t158
  let v3026 : BitVec 32 := Scalar.addi v2976 arg46
  let v3077 : Index := Scalar.indexCast v3026
  let c160_1456 : Index := 160#32
  ![v3077.toNat, 160]
def k1_off2155 (v2766 : BitVec 32) (v2768 : BitVec 32) (k1_t156 : Fin (k1_t156_loop v2766 v2768).trips) (k1_t158 : Fin (k1_t158_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t158
  let v3026 : BitVec 32 := Scalar.addi v2976 arg46
  let v3082 : Index := Scalar.indexCast v3026
  let c176_1457 : Index := 176#32
  ![v3082.toNat, 176]
def k1_off2156 (v2766 : BitVec 32) (v2768 : BitVec 32) (k1_t156 : Fin (k1_t156_loop v2766 v2768).trips) (k1_t158 : Fin (k1_t158_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t158
  let v3026 : BitVec 32 := Scalar.addi v2976 arg46
  let v3087 : Index := Scalar.indexCast v3026
  let c192_1458 : Index := 192#32
  ![v3087.toNat, 192]
def k1_off2157 (v2766 : BitVec 32) (v2768 : BitVec 32) (k1_t156 : Fin (k1_t156_loop v2766 v2768).trips) (k1_t158 : Fin (k1_t158_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t158
  let v3026 : BitVec 32 := Scalar.addi v2976 arg46
  let v3092 : Index := Scalar.indexCast v3026
  let c208_1459 : Index := 208#32
  ![v3092.toNat, 208]
def k1_off2158 (v2766 : BitVec 32) (v2768 : BitVec 32) (k1_t156 : Fin (k1_t156_loop v2766 v2768).trips) (k1_t158 : Fin (k1_t158_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t158
  let v3026 : BitVec 32 := Scalar.addi v2976 arg46
  let v3097 : Index := Scalar.indexCast v3026
  let c224_1460 : Index := 224#32
  ![v3097.toNat, 224]
def k1_off2159 (v2766 : BitVec 32) (v2768 : BitVec 32) (k1_t156 : Fin (k1_t156_loop v2766 v2768).trips) (k1_t158 : Fin (k1_t158_loop v2766 v2768 k1_t156).trips) : Fin 2 → Nat :=
  let c2_i32_1408 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2949 : BitVec 32 := Scalar.muli c2_i32_1408 arg13
  let c64_i32_1410 : BitVec 32 := 64#32
  let v2953 : BitVec 32 := Scalar.muli v2949 c64_i32_1410
  let v2954 : BitVec 32 := Scalar.addi v2766 v2953
  let c64_i32_1411 : BitVec 32 := 64#32
  let v2955 : BitVec 32 := Scalar.muli v2949 c64_i32_1411
  let v2956 : BitVec 32 := Scalar.addi v2766 v2955
  let c0_i32_1413 : BitVec 32 := 0#32
  let v2958 : BitVec 1 := Scalar.cmpi .sgt v2956 c0_i32_1413
  let v2959 : BitVec 32 := Scalar.extui v2958
  let c0_i32_1414 : BitVec 32 := 0#32
  let v2960 : BitVec 1 := Scalar.cmpi .slt v2956 c0_i32_1414
  let v2961 : BitVec 32 := Scalar.extui v2960
  let v2962 : BitVec 32 := Scalar.subi v2959 v2961
  let c8_i32_1412 : BitVec 32 := 8#32
  let c0_i32_1415 : BitVec 32 := 0#32
  let v2963 : BitVec 1 := Scalar.cmpi .sgt c8_i32_1412 c0_i32_1415
  let v2964 : BitVec 32 := Scalar.extui v2963
  let c0_i32_1416 : BitVec 32 := 0#32
  let v2965 : BitVec 1 := Scalar.cmpi .slt c8_i32_1412 c0_i32_1416
  let v2966 : BitVec 32 := Scalar.extui v2965
  let v2967 : BitVec 32 := Scalar.subi v2964 v2966
  let v2968 : BitVec 1 := Scalar.cmpi .ne v2962 v2967
  let v2969 : BitVec 32 := Scalar.remsi v2956 c8_i32_1412
  let c0_i32_1417 : BitVec 32 := 0#32
  let v2970 : BitVec 1 := Scalar.cmpi .ne v2969 c0_i32_1417
  let v2971 : BitVec 1 := Scalar.andi v2968 v2970
  let v2957 : BitVec 32 := Scalar.divsi v2956 c8_i32_1412
  let c1_i32_1418 : BitVec 32 := 1#32
  let v2972 : BitVec 32 := Scalar.subi v2957 c1_i32_1418
  let v2973 : BitVec 32 := Scalar.select v2971 v2972 v2957
  let c8_i32_1419 : BitVec 32 := 8#32
  let v2974 : BitVec 32 := Scalar.muli v2973 c8_i32_1419
  let c99928_i32 : BitVec 32 := 99928#32
  let v2975 : BitVec 32 := Scalar.minsi v2974 c99928_i32
  let v2976 : BitVec 32 := Scalar.subi v2954 v2975
  let c0_i32_1422 : BitVec 32 := 0#32
  let c0_i32_1421 : BitVec 32 := 0#32
  let c64_i32_1420 : BitVec 32 := 64#32
  let v2977 : BitVec 32 := Scalar.subi v2768 v2954
  let v2978 : BitVec 32 := Scalar.minsi c64_i32_1420 v2977
  let v2979 : BitVec 32 := Scalar.maxsi c0_i32_1421 v2978
  let v2980 : BitVec 32 := Scalar.subi v2979 c0_i32_1422
  let c1_i32_1423 : BitVec 32 := 1#32
  let v2982 : BitVec 32 := Scalar.divsi v2980 c1_i32_1423
  let v2983 : BitVec 32 := Scalar.muli v2982 c1_i32_1423
  let v2984 : BitVec 32 := Scalar.addi c0_i32_1422 v2983
  let c1_i32_1425 : BitVec 32 := 1#32
  let arg46 : BitVec 32 := Scf.iv v2984 c1_i32_1425 k1_t158
  let v3026 : BitVec 32 := Scalar.addi v2976 arg46
  let v3102 : Index := Scalar.indexCast v3026
  let c240_1461 : Index := 240#32
  ![v3102.toNat, 240]
def k1_off2160 (i : grid1.Coords) (v2766 : BitVec 32) (v2768 : BitVec 32) (k1_t156 : Fin (k1_t156_loop v2766 v2768).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1446 : BitVec 32 := 64#32
  let v3026 : BitVec 32 := Scalar.muli v2988 c64_i32_1446
  let v3027 : BitVec 32 := Scalar.addi v2766 v3026
  let c0_i32_1448 : BitVec 32 := 0#32
  let v3029 : BitVec 1 := Scalar.cmpi .sgt v3027 c0_i32_1448
  let v3030 : BitVec 32 := Scalar.extui v3029
  let c0_i32_1449 : BitVec 32 := 0#32
  let v3031 : BitVec 1 := Scalar.cmpi .slt v3027 c0_i32_1449
  let v3032 : BitVec 32 := Scalar.extui v3031
  let v3033 : BitVec 32 := Scalar.subi v3030 v3032
  let c8_i32_1447 : BitVec 32 := 8#32
  let c0_i32_1450 : BitVec 32 := 0#32
  let v3034 : BitVec 1 := Scalar.cmpi .sgt c8_i32_1447 c0_i32_1450
  let v3035 : BitVec 32 := Scalar.extui v3034
  let c0_i32_1451 : BitVec 32 := 0#32
  let v3036 : BitVec 1 := Scalar.cmpi .slt c8_i32_1447 c0_i32_1451
  let v3037 : BitVec 32 := Scalar.extui v3036
  let v3038 : BitVec 32 := Scalar.subi v3035 v3037
  let v3039 : BitVec 1 := Scalar.cmpi .ne v3033 v3038
  let v3040 : BitVec 32 := Scalar.remsi v3027 c8_i32_1447
  let c0_i32_1452 : BitVec 32 := 0#32
  let v3041 : BitVec 1 := Scalar.cmpi .ne v3040 c0_i32_1452
  let v3042 : BitVec 1 := Scalar.andi v3039 v3041
  let v3028 : BitVec 32 := Scalar.divsi v3027 c8_i32_1447
  let c1_i32_1453 : BitVec 32 := 1#32
  let v3043 : BitVec 32 := Scalar.subi v3028 c1_i32_1453
  let v3044 : BitVec 32 := Scalar.select v3042 v3043 v3028
  let c8_i32_1454 : BitVec 32 := 8#32
  let v3045 : BitVec 32 := Scalar.muli v3044 c8_i32_1454
  let c99928_i32_1455 : BitVec 32 := 99928#32
  let v3046 : BitVec 32 := Scalar.minsi v3045 c99928_i32_1455
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3046.toNat, v29.toNat]
def k1_cond143 (v2766 : BitVec 32) (v2768 : BitVec 32) (k1_t156 : Fin (k1_t156_loop v2766 v2768).trips) : BitVec 1 :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let v2989 : BitVec 1 := Scalar.cmpi .slt v2988 v2790
  let v2990 : BitVec 32 := Scalar.extui v2989
  let c0_i32_1428 : BitVec 32 := 0#32
  let v2991 : BitVec 1 := Scalar.cmpi .ne v2990 c0_i32_1428
  v2991

def k1_off2161 (i : grid1.Coords) (v2766 : BitVec 32) (v2768 : BitVec 32) (k1_t156 : Fin (k1_t156_loop v2766 v2768).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c1_i32_1458 : BitVec 32 := 1#32
  let v3053 : BitVec 32 := Scalar.addi v2988 c1_i32_1458
  let c64_i32_1459 : BitVec 32 := 64#32
  let v3054 : BitVec 32 := Scalar.muli v3053 c64_i32_1459
  let v3055 : BitVec 32 := Scalar.addi v2766 v3054
  let c0_i32_1461 : BitVec 32 := 0#32
  let v3057 : BitVec 1 := Scalar.cmpi .sgt v3055 c0_i32_1461
  let v3058 : BitVec 32 := Scalar.extui v3057
  let c0_i32_1462 : BitVec 32 := 0#32
  let v3059 : BitVec 1 := Scalar.cmpi .slt v3055 c0_i32_1462
  let v3060 : BitVec 32 := Scalar.extui v3059
  let v3061 : BitVec 32 := Scalar.subi v3058 v3060
  let c8_i32_1460 : BitVec 32 := 8#32
  let c0_i32_1463 : BitVec 32 := 0#32
  let v3062 : BitVec 1 := Scalar.cmpi .sgt c8_i32_1460 c0_i32_1463
  let v3063 : BitVec 32 := Scalar.extui v3062
  let c0_i32_1464 : BitVec 32 := 0#32
  let v3064 : BitVec 1 := Scalar.cmpi .slt c8_i32_1460 c0_i32_1464
  let v3065 : BitVec 32 := Scalar.extui v3064
  let v3066 : BitVec 32 := Scalar.subi v3063 v3065
  let v3067 : BitVec 1 := Scalar.cmpi .ne v3061 v3066
  let v3068 : BitVec 32 := Scalar.remsi v3055 c8_i32_1460
  let c0_i32_1465 : BitVec 32 := 0#32
  let v3069 : BitVec 1 := Scalar.cmpi .ne v3068 c0_i32_1465
  let v3070 : BitVec 1 := Scalar.andi v3067 v3069
  let v3056 : BitVec 32 := Scalar.divsi v3055 c8_i32_1460
  let c1_i32_1466 : BitVec 32 := 1#32
  let v3071 : BitVec 32 := Scalar.subi v3056 c1_i32_1466
  let v3072 : BitVec 32 := Scalar.select v3070 v3071 v3056
  let c8_i32_1467 : BitVec 32 := 8#32
  let v3073 : BitVec 32 := Scalar.muli v3072 c8_i32_1467
  let c99928_i32_1468 : BitVec 32 := 99928#32
  let v3074 : BitVec 32 := Scalar.minsi v3073 c99928_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v3074.toNat, v29.toNat]
def k1_cond144 (v2766 : BitVec 32) (v2768 : BitVec 32) (k1_t156 : Fin (k1_t156_loop v2766 v2768).trips) : BitVec 1 :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c1_i32_1456 : BitVec 32 := 1#32
  let v3049 : BitVec 32 := Scalar.addi v2988 c1_i32_1456
  let v3050 : BitVec 1 := Scalar.cmpi .slt v3049 v2790
  let v3051 : BitVec 32 := Scalar.extui v3050
  let c0_i32_1457 : BitVec 32 := 0#32
  let v3052 : BitVec 1 := Scalar.cmpi .ne v3051 c0_i32_1457
  v3052

@[reducible] def k1_t159_loop (v2766 : BitVec 32) (v2768 : BitVec 32) (k1_t156 : Fin (k1_t156_loop v2766 v2768).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1444 : BitVec 32 := 1#32
  ⟨c0_i32_1442, v3023, c1_i32_1444⟩
def k1_off2162 (v2766 : BitVec 32) (v2768 : BitVec 32) (k1_t156 : Fin (k1_t156_loop v2766 v2768).trips) (k1_t159 : Fin (k1_t159_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t159
  let v3026 : BitVec 32 := Scalar.addi v3015 arg46
  let v3027 : Index := Scalar.indexCast v3026
  let c0_1446 : Index := 0#32
  ![v3027.toNat, 0]
def k1_off2163 (v2766 : BitVec 32) (v2768 : BitVec 32) (k1_t156 : Fin (k1_t156_loop v2766 v2768).trips) (k1_t159 : Fin (k1_t159_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t159
  let v3026 : BitVec 32 := Scalar.addi v3015 arg46
  let v3032 : Index := Scalar.indexCast v3026
  let c16_1447 : Index := 16#32
  ![v3032.toNat, 16]
def k1_off2164 (v2766 : BitVec 32) (v2768 : BitVec 32) (k1_t156 : Fin (k1_t156_loop v2766 v2768).trips) (k1_t159 : Fin (k1_t159_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t159
  let v3026 : BitVec 32 := Scalar.addi v3015 arg46
  let v3037 : Index := Scalar.indexCast v3026
  let c32_1448 : Index := 32#32
  ![v3037.toNat, 32]
def k1_off2165 (v2766 : BitVec 32) (v2768 : BitVec 32) (k1_t156 : Fin (k1_t156_loop v2766 v2768).trips) (k1_t159 : Fin (k1_t159_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t159
  let v3026 : BitVec 32 := Scalar.addi v3015 arg46
  let v3042 : Index := Scalar.indexCast v3026
  let c48_1449 : Index := 48#32
  ![v3042.toNat, 48]
def k1_off2166 (v2766 : BitVec 32) (v2768 : BitVec 32) (k1_t156 : Fin (k1_t156_loop v2766 v2768).trips) (k1_t159 : Fin (k1_t159_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t159
  let v3026 : BitVec 32 := Scalar.addi v3015 arg46
  let v3047 : Index := Scalar.indexCast v3026
  let c64_1450 : Index := 64#32
  ![v3047.toNat, 64]
def k1_off2167 (v2766 : BitVec 32) (v2768 : BitVec 32) (k1_t156 : Fin (k1_t156_loop v2766 v2768).trips) (k1_t159 : Fin (k1_t159_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t159
  let v3026 : BitVec 32 := Scalar.addi v3015 arg46
  let v3052 : Index := Scalar.indexCast v3026
  let c80_1451 : Index := 80#32
  ![v3052.toNat, 80]
def k1_off2168 (v2766 : BitVec 32) (v2768 : BitVec 32) (k1_t156 : Fin (k1_t156_loop v2766 v2768).trips) (k1_t159 : Fin (k1_t159_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t159
  let v3026 : BitVec 32 := Scalar.addi v3015 arg46
  let v3057 : Index := Scalar.indexCast v3026
  let c96_1452 : Index := 96#32
  ![v3057.toNat, 96]
def k1_off2169 (v2766 : BitVec 32) (v2768 : BitVec 32) (k1_t156 : Fin (k1_t156_loop v2766 v2768).trips) (k1_t159 : Fin (k1_t159_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t159
  let v3026 : BitVec 32 := Scalar.addi v3015 arg46
  let v3062 : Index := Scalar.indexCast v3026
  let c112_1453 : Index := 112#32
  ![v3062.toNat, 112]
def k1_off2170 (v2766 : BitVec 32) (v2768 : BitVec 32) (k1_t156 : Fin (k1_t156_loop v2766 v2768).trips) (k1_t159 : Fin (k1_t159_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t159
  let v3026 : BitVec 32 := Scalar.addi v3015 arg46
  let v3067 : Index := Scalar.indexCast v3026
  let c128_1454 : Index := 128#32
  ![v3067.toNat, 128]
def k1_off2171 (v2766 : BitVec 32) (v2768 : BitVec 32) (k1_t156 : Fin (k1_t156_loop v2766 v2768).trips) (k1_t159 : Fin (k1_t159_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t159
  let v3026 : BitVec 32 := Scalar.addi v3015 arg46
  let v3072 : Index := Scalar.indexCast v3026
  let c144_1455 : Index := 144#32
  ![v3072.toNat, 144]
def k1_off2172 (v2766 : BitVec 32) (v2768 : BitVec 32) (k1_t156 : Fin (k1_t156_loop v2766 v2768).trips) (k1_t159 : Fin (k1_t159_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t159
  let v3026 : BitVec 32 := Scalar.addi v3015 arg46
  let v3077 : Index := Scalar.indexCast v3026
  let c160_1456 : Index := 160#32
  ![v3077.toNat, 160]
def k1_off2173 (v2766 : BitVec 32) (v2768 : BitVec 32) (k1_t156 : Fin (k1_t156_loop v2766 v2768).trips) (k1_t159 : Fin (k1_t159_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t159
  let v3026 : BitVec 32 := Scalar.addi v3015 arg46
  let v3082 : Index := Scalar.indexCast v3026
  let c176_1457 : Index := 176#32
  ![v3082.toNat, 176]
def k1_off2174 (v2766 : BitVec 32) (v2768 : BitVec 32) (k1_t156 : Fin (k1_t156_loop v2766 v2768).trips) (k1_t159 : Fin (k1_t159_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t159
  let v3026 : BitVec 32 := Scalar.addi v3015 arg46
  let v3087 : Index := Scalar.indexCast v3026
  let c192_1458 : Index := 192#32
  ![v3087.toNat, 192]
def k1_off2175 (v2766 : BitVec 32) (v2768 : BitVec 32) (k1_t156 : Fin (k1_t156_loop v2766 v2768).trips) (k1_t159 : Fin (k1_t159_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t159
  let v3026 : BitVec 32 := Scalar.addi v3015 arg46
  let v3092 : Index := Scalar.indexCast v3026
  let c208_1459 : Index := 208#32
  ![v3092.toNat, 208]
def k1_off2176 (v2766 : BitVec 32) (v2768 : BitVec 32) (k1_t156 : Fin (k1_t156_loop v2766 v2768).trips) (k1_t159 : Fin (k1_t159_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t159
  let v3026 : BitVec 32 := Scalar.addi v3015 arg46
  let v3097 : Index := Scalar.indexCast v3026
  let c224_1460 : Index := 224#32
  ![v3097.toNat, 224]
def k1_off2177 (v2766 : BitVec 32) (v2768 : BitVec 32) (k1_t156 : Fin (k1_t156_loop v2766 v2768).trips) (k1_t159 : Fin (k1_t159_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c1_i32_1444 : BitVec 32 := 1#32
  let arg46 : BitVec 32 := Scf.iv c0_i32_1442 c1_i32_1444 k1_t159
  let v3026 : BitVec 32 := Scalar.addi v3015 arg46
  let v3102 : Index := Scalar.indexCast v3026
  let c240_1461 : Index := 240#32
  ![v3102.toNat, 240]
@[reducible] def k1_t160_loop (v2766 : BitVec 32) (v2768 : BitVec 32) (k1_t156 : Fin (k1_t156_loop v2766 v2768).trips) : Scf.Loop 32 :=
  let c0_i32_1442 : BitVec 32 := 0#32
  let c0_i32_1441 : BitVec 32 := 0#32
  let c64_i32_1440 : BitVec 32 := 64#32
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let v3020 : BitVec 32 := Scalar.addi c0_i32_1442 v3019
  let c1_i32_1445 : BitVec 32 := 1#32
  ⟨v3023, v3020, c1_i32_1445⟩
def k1_off2178 (v2766 : BitVec 32) (v2768 : BitVec 32) (k1_t156 : Fin (k1_t156_loop v2766 v2768).trips) (k1_t160 : Fin (k1_t160_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t160
  let v3026 : BitVec 32 := Scalar.addi v3015 arg46
  let v3027 : Index := Scalar.indexCast v3026
  let c0_1446 : Index := 0#32
  ![v3027.toNat, 0]
def k1_off2179 (v2766 : BitVec 32) (v2768 : BitVec 32) (k1_t156 : Fin (k1_t156_loop v2766 v2768).trips) (k1_t160 : Fin (k1_t160_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t160
  let v3026 : BitVec 32 := Scalar.addi v3015 arg46
  let v3032 : Index := Scalar.indexCast v3026
  let c16_1447 : Index := 16#32
  ![v3032.toNat, 16]
def k1_off2180 (v2766 : BitVec 32) (v2768 : BitVec 32) (k1_t156 : Fin (k1_t156_loop v2766 v2768).trips) (k1_t160 : Fin (k1_t160_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t160
  let v3026 : BitVec 32 := Scalar.addi v3015 arg46
  let v3037 : Index := Scalar.indexCast v3026
  let c32_1448 : Index := 32#32
  ![v3037.toNat, 32]
def k1_off2181 (v2766 : BitVec 32) (v2768 : BitVec 32) (k1_t156 : Fin (k1_t156_loop v2766 v2768).trips) (k1_t160 : Fin (k1_t160_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t160
  let v3026 : BitVec 32 := Scalar.addi v3015 arg46
  let v3042 : Index := Scalar.indexCast v3026
  let c48_1449 : Index := 48#32
  ![v3042.toNat, 48]
def k1_off2182 (v2766 : BitVec 32) (v2768 : BitVec 32) (k1_t156 : Fin (k1_t156_loop v2766 v2768).trips) (k1_t160 : Fin (k1_t160_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t160
  let v3026 : BitVec 32 := Scalar.addi v3015 arg46
  let v3047 : Index := Scalar.indexCast v3026
  let c64_1450 : Index := 64#32
  ![v3047.toNat, 64]
def k1_off2183 (v2766 : BitVec 32) (v2768 : BitVec 32) (k1_t156 : Fin (k1_t156_loop v2766 v2768).trips) (k1_t160 : Fin (k1_t160_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t160
  let v3026 : BitVec 32 := Scalar.addi v3015 arg46
  let v3052 : Index := Scalar.indexCast v3026
  let c80_1451 : Index := 80#32
  ![v3052.toNat, 80]
def k1_off2184 (v2766 : BitVec 32) (v2768 : BitVec 32) (k1_t156 : Fin (k1_t156_loop v2766 v2768).trips) (k1_t160 : Fin (k1_t160_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t160
  let v3026 : BitVec 32 := Scalar.addi v3015 arg46
  let v3057 : Index := Scalar.indexCast v3026
  let c96_1452 : Index := 96#32
  ![v3057.toNat, 96]
def k1_off2185 (v2766 : BitVec 32) (v2768 : BitVec 32) (k1_t156 : Fin (k1_t156_loop v2766 v2768).trips) (k1_t160 : Fin (k1_t160_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t160
  let v3026 : BitVec 32 := Scalar.addi v3015 arg46
  let v3062 : Index := Scalar.indexCast v3026
  let c112_1453 : Index := 112#32
  ![v3062.toNat, 112]
def k1_off2186 (v2766 : BitVec 32) (v2768 : BitVec 32) (k1_t156 : Fin (k1_t156_loop v2766 v2768).trips) (k1_t160 : Fin (k1_t160_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t160
  let v3026 : BitVec 32 := Scalar.addi v3015 arg46
  let v3067 : Index := Scalar.indexCast v3026
  let c128_1454 : Index := 128#32
  ![v3067.toNat, 128]
def k1_off2187 (v2766 : BitVec 32) (v2768 : BitVec 32) (k1_t156 : Fin (k1_t156_loop v2766 v2768).trips) (k1_t160 : Fin (k1_t160_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t160
  let v3026 : BitVec 32 := Scalar.addi v3015 arg46
  let v3072 : Index := Scalar.indexCast v3026
  let c144_1455 : Index := 144#32
  ![v3072.toNat, 144]
def k1_off2188 (v2766 : BitVec 32) (v2768 : BitVec 32) (k1_t156 : Fin (k1_t156_loop v2766 v2768).trips) (k1_t160 : Fin (k1_t160_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t160
  let v3026 : BitVec 32 := Scalar.addi v3015 arg46
  let v3077 : Index := Scalar.indexCast v3026
  let c160_1456 : Index := 160#32
  ![v3077.toNat, 160]
def k1_off2189 (v2766 : BitVec 32) (v2768 : BitVec 32) (k1_t156 : Fin (k1_t156_loop v2766 v2768).trips) (k1_t160 : Fin (k1_t160_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t160
  let v3026 : BitVec 32 := Scalar.addi v3015 arg46
  let v3082 : Index := Scalar.indexCast v3026
  let c176_1457 : Index := 176#32
  ![v3082.toNat, 176]
def k1_off2190 (v2766 : BitVec 32) (v2768 : BitVec 32) (k1_t156 : Fin (k1_t156_loop v2766 v2768).trips) (k1_t160 : Fin (k1_t160_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t160
  let v3026 : BitVec 32 := Scalar.addi v3015 arg46
  let v3087 : Index := Scalar.indexCast v3026
  let c192_1458 : Index := 192#32
  ![v3087.toNat, 192]
def k1_off2191 (v2766 : BitVec 32) (v2768 : BitVec 32) (k1_t156 : Fin (k1_t156_loop v2766 v2768).trips) (k1_t160 : Fin (k1_t160_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t160
  let v3026 : BitVec 32 := Scalar.addi v3015 arg46
  let v3092 : Index := Scalar.indexCast v3026
  let c208_1459 : Index := 208#32
  ![v3092.toNat, 208]
def k1_off2192 (v2766 : BitVec 32) (v2768 : BitVec 32) (k1_t156 : Fin (k1_t156_loop v2766 v2768).trips) (k1_t160 : Fin (k1_t160_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t160
  let v3026 : BitVec 32 := Scalar.addi v3015 arg46
  let v3097 : Index := Scalar.indexCast v3026
  let c224_1460 : Index := 224#32
  ![v3097.toNat, 224]
def k1_off2193 (v2766 : BitVec 32) (v2768 : BitVec 32) (k1_t156 : Fin (k1_t156_loop v2766 v2768).trips) (k1_t160 : Fin (k1_t160_loop v2766 v2768 k1_t156).trips) : Fin 2 → Nat :=
  let c2_i32_1426 : BitVec 32 := 2#32
  let c0_i32_1339 : BitVec 32 := 0#32
  let v2771 : BitVec 32 := Scalar.subi v2768 v2766
  let c64_i32_1320 : BitVec 32 := 64#32
  let v2772 : BitVec 32 := Scalar.addi v2771 c64_i32_1320
  let c1_i32_1321 : BitVec 32 := 1#32
  let v2773 : BitVec 32 := Scalar.subi v2772 c1_i32_1321
  let c0_i32_1323 : BitVec 32 := 0#32
  let v2775 : BitVec 1 := Scalar.cmpi .sgt v2773 c0_i32_1323
  let v2776 : BitVec 32 := Scalar.extui v2775
  let c0_i32_1324 : BitVec 32 := 0#32
  let v2777 : BitVec 1 := Scalar.cmpi .slt v2773 c0_i32_1324
  let v2778 : BitVec 32 := Scalar.extui v2777
  let v2779 : BitVec 32 := Scalar.subi v2776 v2778
  let c64_i32_1322 : BitVec 32 := 64#32
  let c0_i32_1325 : BitVec 32 := 0#32
  let v2780 : BitVec 1 := Scalar.cmpi .sgt c64_i32_1322 c0_i32_1325
  let v2781 : BitVec 32 := Scalar.extui v2780
  let c0_i32_1326 : BitVec 32 := 0#32
  let v2782 : BitVec 1 := Scalar.cmpi .slt c64_i32_1322 c0_i32_1326
  let v2783 : BitVec 32 := Scalar.extui v2782
  let v2784 : BitVec 32 := Scalar.subi v2781 v2783
  let v2785 : BitVec 1 := Scalar.cmpi .ne v2779 v2784
  let v2786 : BitVec 32 := Scalar.remsi v2773 c64_i32_1322
  let c0_i32_1327 : BitVec 32 := 0#32
  let v2787 : BitVec 1 := Scalar.cmpi .ne v2786 c0_i32_1327
  let v2788 : BitVec 1 := Scalar.andi v2785 v2787
  let v2774 : BitVec 32 := Scalar.divsi v2773 c64_i32_1322
  let c1_i32_1328 : BitVec 32 := 1#32
  let v2789 : BitVec 32 := Scalar.subi v2774 c1_i32_1328
  let v2790 : BitVec 32 := Scalar.select v2788 v2789 v2774
  let c1_i32_1331 : BitVec 32 := 1#32
  let v2794 : BitVec 32 := Scalar.addi v2790 c1_i32_1331
  let c0_i32_1333 : BitVec 32 := 0#32
  let v2796 : BitVec 1 := Scalar.cmpi .sgt v2794 c0_i32_1333
  let v2797 : BitVec 32 := Scalar.extui v2796
  let c0_i32_1334 : BitVec 32 := 0#32
  let v2798 : BitVec 1 := Scalar.cmpi .slt v2794 c0_i32_1334
  let v2799 : BitVec 32 := Scalar.extui v2798
  let v2800 : BitVec 32 := Scalar.subi v2797 v2799
  let c2_i32_1332 : BitVec 32 := 2#32
  let c0_i32_1335 : BitVec 32 := 0#32
  let v2801 : BitVec 1 := Scalar.cmpi .sgt c2_i32_1332 c0_i32_1335
  let v2802 : BitVec 32 := Scalar.extui v2801
  let c0_i32_1336 : BitVec 32 := 0#32
  let v2803 : BitVec 1 := Scalar.cmpi .slt c2_i32_1332 c0_i32_1336
  let v2804 : BitVec 32 := Scalar.extui v2803
  let v2805 : BitVec 32 := Scalar.subi v2802 v2804
  let v2806 : BitVec 1 := Scalar.cmpi .ne v2800 v2805
  let v2807 : BitVec 32 := Scalar.remsi v2794 c2_i32_1332
  let c0_i32_1337 : BitVec 32 := 0#32
  let v2808 : BitVec 1 := Scalar.cmpi .ne v2807 c0_i32_1337
  let v2809 : BitVec 1 := Scalar.andi v2806 v2808
  let v2795 : BitVec 32 := Scalar.divsi v2794 c2_i32_1332
  let c1_i32_1338 : BitVec 32 := 1#32
  let v2810 : BitVec 32 := Scalar.subi v2795 c1_i32_1338
  let v2811 : BitVec 32 := Scalar.select v2809 v2810 v2795
  let v2812 : BitVec 32 := Scalar.subi v2811 c0_i32_1339
  let c1_i32_1340 : BitVec 32 := 1#32
  let v2814 : BitVec 32 := Scalar.divsi v2812 c1_i32_1340
  let v2815 : BitVec 32 := Scalar.muli v2814 c1_i32_1340
  let v2816 : BitVec 32 := Scalar.addi c0_i32_1339 v2815
  let c1_i32_1342 : BitVec 32 := 1#32
  let arg13 : BitVec 32 := Scf.iv v2816 c1_i32_1342 k1_t156
  let v2987 : BitVec 32 := Scalar.muli c2_i32_1426 arg13
  let c1_i32_1427 : BitVec 32 := 1#32
  let v2988 : BitVec 32 := Scalar.addi v2987 c1_i32_1427
  let c64_i32_1429 : BitVec 32 := 64#32
  let v2992 : BitVec 32 := Scalar.muli v2988 c64_i32_1429
  let v2993 : BitVec 32 := Scalar.addi v2766 v2992
  let c64_i32_1430 : BitVec 32 := 64#32
  let v2994 : BitVec 32 := Scalar.muli v2988 c64_i32_1430
  let v2995 : BitVec 32 := Scalar.addi v2766 v2994
  let c0_i32_1432 : BitVec 32 := 0#32
  let v2997 : BitVec 1 := Scalar.cmpi .sgt v2995 c0_i32_1432
  let v2998 : BitVec 32 := Scalar.extui v2997
  let c0_i32_1433 : BitVec 32 := 0#32
  let v2999 : BitVec 1 := Scalar.cmpi .slt v2995 c0_i32_1433
  let v3000 : BitVec 32 := Scalar.extui v2999
  let v3001 : BitVec 32 := Scalar.subi v2998 v3000
  let c8_i32_1431 : BitVec 32 := 8#32
  let c0_i32_1434 : BitVec 32 := 0#32
  let v3002 : BitVec 1 := Scalar.cmpi .sgt c8_i32_1431 c0_i32_1434
  let v3003 : BitVec 32 := Scalar.extui v3002
  let c0_i32_1435 : BitVec 32 := 0#32
  let v3004 : BitVec 1 := Scalar.cmpi .slt c8_i32_1431 c0_i32_1435
  let v3005 : BitVec 32 := Scalar.extui v3004
  let v3006 : BitVec 32 := Scalar.subi v3003 v3005
  let v3007 : BitVec 1 := Scalar.cmpi .ne v3001 v3006
  let v3008 : BitVec 32 := Scalar.remsi v2995 c8_i32_1431
  let c0_i32_1436 : BitVec 32 := 0#32
  let v3009 : BitVec 1 := Scalar.cmpi .ne v3008 c0_i32_1436
  let v3010 : BitVec 1 := Scalar.andi v3007 v3009
  let v2996 : BitVec 32 := Scalar.divsi v2995 c8_i32_1431
  let c1_i32_1437 : BitVec 32 := 1#32
  let v3011 : BitVec 32 := Scalar.subi v2996 c1_i32_1437
  let v3012 : BitVec 32 := Scalar.select v3010 v3011 v2996
  let c8_i32_1438 : BitVec 32 := 8#32
  let v3013 : BitVec 32 := Scalar.muli v3012 c8_i32_1438
  let c99928_i32_1439 : BitVec 32 := 99928#32
  let v3014 : BitVec 32 := Scalar.minsi v3013 c99928_i32_1439
  let v3015 : BitVec 32 := Scalar.subi v2993 v3014
  let c0_i32_1442 : BitVec 32 := 0#32
  let c0_i32_1441 : BitVec 32 := 0#32
  let c64_i32_1440 : BitVec 32 := 64#32
  let v3016 : BitVec 32 := Scalar.subi v2768 v2993
  let v3017 : BitVec 32 := Scalar.minsi c64_i32_1440 v3016
  let v3018 : BitVec 32 := Scalar.maxsi c0_i32_1441 v3017
  let v3019 : BitVec 32 := Scalar.subi v3018 c0_i32_1442
  let c1_i32_1443 : BitVec 32 := 1#32
  let v3021 : BitVec 32 := Scalar.divsi v3019 c1_i32_1443
  let v3022 : BitVec 32 := Scalar.muli v3021 c1_i32_1443
  let v3023 : BitVec 32 := Scalar.addi c0_i32_1442 v3022
  let c1_i32_1445 : BitVec 32 := 1#32
  let arg46 : BitVec 32 := Scf.iv v3023 c1_i32_1445 k1_t160
  let v3026 : BitVec 32 := Scalar.addi v3015 arg46
  let v3102 : Index := Scalar.indexCast v3026
  let c240_1461 : Index := 240#32
  ![v3102.toNat, 240]

def k1_chk16_0 (i : grid1.Coords) (v2766 : BitVec 32) (v2768 : BitVec 32) : Prop :=
  (∀ (k1_h136 : k1_cond136 v2766 v2768 = 1#1), ∀ a, (k1_off2057 i v2766) a + S72x256.size a ≤ S100000x512.size a) ∧
  ((k1_t151_loop v2766 v2768).OK) ∧
  (∀ k1_t151 : Fin (k1_t151_loop v2766 v2768).trips, ∀ (k1_h137 : k1_cond137 v2766 v2768 k1_t151 = 1#1), ∀ a, (k1_off2058 i v2766 v2768 k1_t151) a + S72x256.size a ≤ S100000x512.size a) ∧
  (∀ k1_t151 : Fin (k1_t151_loop v2766 v2768).trips, ∀ (k1_h137 : k1_cond137 v2766 v2768 k1_t151 = 1#1), ∀ (k1_h138 : k1_cond138 v2766 v2768 k1_t151 = 1#1), ∀ a, (k1_off2059 i v2766 v2768 k1_t151) a + S72x256.size a ≤ S100000x512.size a) ∧
  (∀ k1_t151 : Fin (k1_t151_loop v2766 v2768).trips, (k1_t152_loop v2766 v2768 k1_t151).OK) ∧
  (∀ (k1_t151 : Fin (k1_t151_loop v2766 v2768).trips) (k1_t152 : Fin (k1_t152_loop v2766 v2768 k1_t151).trips), ∀ a, (k1_off2060 v2766 v2768 k1_t151 k1_t152) a + S1x16.size a ≤ S72x256.size a) ∧
  (∀ (k1_t151 : Fin (k1_t151_loop v2766 v2768).trips) (k1_t152 : Fin (k1_t152_loop v2766 v2768 k1_t151).trips), ∀ a, (k1_off2061 v2766 v2768 k1_t151 k1_t152) a + S1x16.size a ≤ S72x256.size a) ∧
  (∀ (k1_t151 : Fin (k1_t151_loop v2766 v2768).trips) (k1_t152 : Fin (k1_t152_loop v2766 v2768 k1_t151).trips), ∀ a, (k1_off2062 v2766 v2768 k1_t151 k1_t152) a + S1x16.size a ≤ S72x256.size a) ∧
  (∀ (k1_t151 : Fin (k1_t151_loop v2766 v2768).trips) (k1_t152 : Fin (k1_t152_loop v2766 v2768 k1_t151).trips), ∀ a, (k1_off2063 v2766 v2768 k1_t151 k1_t152) a + S1x16.size a ≤ S72x256.size a) ∧
  (∀ (k1_t151 : Fin (k1_t151_loop v2766 v2768).trips) (k1_t152 : Fin (k1_t152_loop v2766 v2768 k1_t151).trips), ∀ a, (k1_off2064 v2766 v2768 k1_t151 k1_t152) a + S1x16.size a ≤ S72x256.size a) ∧
  (∀ (k1_t151 : Fin (k1_t151_loop v2766 v2768).trips) (k1_t152 : Fin (k1_t152_loop v2766 v2768 k1_t151).trips), ∀ a, (k1_off2065 v2766 v2768 k1_t151 k1_t152) a + S1x16.size a ≤ S72x256.size a) ∧
  (∀ (k1_t151 : Fin (k1_t151_loop v2766 v2768).trips) (k1_t152 : Fin (k1_t152_loop v2766 v2768 k1_t151).trips), ∀ a, (k1_off2066 v2766 v2768 k1_t151 k1_t152) a + S1x16.size a ≤ S72x256.size a) ∧
  (∀ (k1_t151 : Fin (k1_t151_loop v2766 v2768).trips) (k1_t152 : Fin (k1_t152_loop v2766 v2768 k1_t151).trips), ∀ a, (k1_off2067 v2766 v2768 k1_t151 k1_t152) a + S1x16.size a ≤ S72x256.size a) ∧
  (∀ (k1_t151 : Fin (k1_t151_loop v2766 v2768).trips) (k1_t152 : Fin (k1_t152_loop v2766 v2768 k1_t151).trips), ∀ a, (k1_off2068 v2766 v2768 k1_t151 k1_t152) a + S1x16.size a ≤ S72x256.size a) ∧
  (∀ (k1_t151 : Fin (k1_t151_loop v2766 v2768).trips) (k1_t152 : Fin (k1_t152_loop v2766 v2768 k1_t151).trips), ∀ a, (k1_off2069 v2766 v2768 k1_t151 k1_t152) a + S1x16.size a ≤ S72x256.size a) ∧
  (∀ (k1_t151 : Fin (k1_t151_loop v2766 v2768).trips) (k1_t152 : Fin (k1_t152_loop v2766 v2768 k1_t151).trips), ∀ a, (k1_off2070 v2766 v2768 k1_t151 k1_t152) a + S1x16.size a ≤ S72x256.size a) ∧
  (∀ (k1_t151 : Fin (k1_t151_loop v2766 v2768).trips) (k1_t152 : Fin (k1_t152_loop v2766 v2768 k1_t151).trips), ∀ a, (k1_off2071 v2766 v2768 k1_t151 k1_t152) a + S1x16.size a ≤ S72x256.size a) ∧
  (∀ (k1_t151 : Fin (k1_t151_loop v2766 v2768).trips) (k1_t152 : Fin (k1_t152_loop v2766 v2768 k1_t151).trips), ∀ a, (k1_off2072 v2766 v2768 k1_t151 k1_t152) a + S1x16.size a ≤ S72x256.size a) ∧
  (∀ (k1_t151 : Fin (k1_t151_loop v2766 v2768).trips) (k1_t152 : Fin (k1_t152_loop v2766 v2768 k1_t151).trips), ∀ a, (k1_off2073 v2766 v2768 k1_t151 k1_t152) a + S1x16.size a ≤ S72x256.size a) ∧
  (∀ (k1_t151 : Fin (k1_t151_loop v2766 v2768).trips) (k1_t152 : Fin (k1_t152_loop v2766 v2768 k1_t151).trips), ∀ a, (k1_off2074 v2766 v2768 k1_t151 k1_t152) a + S1x16.size a ≤ S72x256.size a) ∧
  (∀ (k1_t151 : Fin (k1_t151_loop v2766 v2768).trips) (k1_t152 : Fin (k1_t152_loop v2766 v2768 k1_t151).trips), ∀ a, (k1_off2075 v2766 v2768 k1_t151 k1_t152) a + S1x16.size a ≤ S72x256.size a) ∧
  (∀ k1_t151 : Fin (k1_t151_loop v2766 v2768).trips, (k1_t153_loop v2766 v2768 k1_t151).OK) ∧
  (∀ (k1_t151 : Fin (k1_t151_loop v2766 v2768).trips) (k1_t153 : Fin (k1_t153_loop v2766 v2768 k1_t151).trips), ∀ a, (k1_off2076 v2766 v2768 k1_t151 k1_t153) a + S1x16.size a ≤ S72x256.size a) ∧
  (∀ (k1_t151 : Fin (k1_t151_loop v2766 v2768).trips) (k1_t153 : Fin (k1_t153_loop v2766 v2768 k1_t151).trips), ∀ a, (k1_off2077 v2766 v2768 k1_t151 k1_t153) a + S1x16.size a ≤ S72x256.size a) ∧
  (∀ (k1_t151 : Fin (k1_t151_loop v2766 v2768).trips) (k1_t153 : Fin (k1_t153_loop v2766 v2768 k1_t151).trips), ∀ a, (k1_off2078 v2766 v2768 k1_t151 k1_t153) a + S1x16.size a ≤ S72x256.size a) ∧
  (∀ (k1_t151 : Fin (k1_t151_loop v2766 v2768).trips) (k1_t153 : Fin (k1_t153_loop v2766 v2768 k1_t151).trips), ∀ a, (k1_off2079 v2766 v2768 k1_t151 k1_t153) a + S1x16.size a ≤ S72x256.size a) ∧
  (∀ (k1_t151 : Fin (k1_t151_loop v2766 v2768).trips) (k1_t153 : Fin (k1_t153_loop v2766 v2768 k1_t151).trips), ∀ a, (k1_off2080 v2766 v2768 k1_t151 k1_t153) a + S1x16.size a ≤ S72x256.size a) ∧
  (∀ (k1_t151 : Fin (k1_t151_loop v2766 v2768).trips) (k1_t153 : Fin (k1_t153_loop v2766 v2768 k1_t151).trips), ∀ a, (k1_off2081 v2766 v2768 k1_t151 k1_t153) a + S1x16.size a ≤ S72x256.size a) ∧
  (∀ (k1_t151 : Fin (k1_t151_loop v2766 v2768).trips) (k1_t153 : Fin (k1_t153_loop v2766 v2768 k1_t151).trips), ∀ a, (k1_off2082 v2766 v2768 k1_t151 k1_t153) a + S1x16.size a ≤ S72x256.size a) ∧
  (∀ (k1_t151 : Fin (k1_t151_loop v2766 v2768).trips) (k1_t153 : Fin (k1_t153_loop v2766 v2768 k1_t151).trips), ∀ a, (k1_off2083 v2766 v2768 k1_t151 k1_t153) a + S1x16.size a ≤ S72x256.size a) ∧
  (∀ (k1_t151 : Fin (k1_t151_loop v2766 v2768).trips) (k1_t153 : Fin (k1_t153_loop v2766 v2768 k1_t151).trips), ∀ a, (k1_off2084 v2766 v2768 k1_t151 k1_t153) a + S1x16.size a ≤ S72x256.size a) ∧
  (∀ (k1_t151 : Fin (k1_t151_loop v2766 v2768).trips) (k1_t153 : Fin (k1_t153_loop v2766 v2768 k1_t151).trips), ∀ a, (k1_off2085 v2766 v2768 k1_t151 k1_t153) a + S1x16.size a ≤ S72x256.size a)
def k1_chk16_1 (i : grid1.Coords) (v2766 : BitVec 32) (v2768 : BitVec 32) : Prop :=
  (∀ (k1_t151 : Fin (k1_t151_loop v2766 v2768).trips) (k1_t153 : Fin (k1_t153_loop v2766 v2768 k1_t151).trips), ∀ a, (k1_off2086 v2766 v2768 k1_t151 k1_t153) a + S1x16.size a ≤ S72x256.size a) ∧
  (∀ (k1_t151 : Fin (k1_t151_loop v2766 v2768).trips) (k1_t153 : Fin (k1_t153_loop v2766 v2768 k1_t151).trips), ∀ a, (k1_off2087 v2766 v2768 k1_t151 k1_t153) a + S1x16.size a ≤ S72x256.size a) ∧
  (∀ (k1_t151 : Fin (k1_t151_loop v2766 v2768).trips) (k1_t153 : Fin (k1_t153_loop v2766 v2768 k1_t151).trips), ∀ a, (k1_off2088 v2766 v2768 k1_t151 k1_t153) a + S1x16.size a ≤ S72x256.size a) ∧
  (∀ (k1_t151 : Fin (k1_t151_loop v2766 v2768).trips) (k1_t153 : Fin (k1_t153_loop v2766 v2768 k1_t151).trips), ∀ a, (k1_off2089 v2766 v2768 k1_t151 k1_t153) a + S1x16.size a ≤ S72x256.size a) ∧
  (∀ (k1_t151 : Fin (k1_t151_loop v2766 v2768).trips) (k1_t153 : Fin (k1_t153_loop v2766 v2768 k1_t151).trips), ∀ a, (k1_off2090 v2766 v2768 k1_t151 k1_t153) a + S1x16.size a ≤ S72x256.size a) ∧
  (∀ (k1_t151 : Fin (k1_t151_loop v2766 v2768).trips) (k1_t153 : Fin (k1_t153_loop v2766 v2768 k1_t151).trips), ∀ a, (k1_off2091 v2766 v2768 k1_t151 k1_t153) a + S1x16.size a ≤ S72x256.size a) ∧
  (∀ k1_t151 : Fin (k1_t151_loop v2766 v2768).trips, ∀ (k1_h139 : k1_cond139 v2766 v2768 k1_t151 = 1#1), ∀ a, (k1_off2092 i v2766 v2768 k1_t151) a + S72x256.size a ≤ S100000x512.size a) ∧
  (∀ k1_t151 : Fin (k1_t151_loop v2766 v2768).trips, ∀ (k1_h139 : k1_cond139 v2766 v2768 k1_t151 = 1#1), ∀ (k1_h140 : k1_cond140 v2766 v2768 k1_t151 = 1#1), ∀ a, (k1_off2093 i v2766 v2768 k1_t151) a + S72x256.size a ≤ S100000x512.size a) ∧
  (∀ k1_t151 : Fin (k1_t151_loop v2766 v2768).trips, (k1_t154_loop v2766 v2768 k1_t151).OK) ∧
  (∀ (k1_t151 : Fin (k1_t151_loop v2766 v2768).trips) (k1_t154 : Fin (k1_t154_loop v2766 v2768 k1_t151).trips), ∀ a, (k1_off2094 v2766 v2768 k1_t151 k1_t154) a + S1x16.size a ≤ S72x256.size a) ∧
  (∀ (k1_t151 : Fin (k1_t151_loop v2766 v2768).trips) (k1_t154 : Fin (k1_t154_loop v2766 v2768 k1_t151).trips), ∀ a, (k1_off2095 v2766 v2768 k1_t151 k1_t154) a + S1x16.size a ≤ S72x256.size a) ∧
  (∀ (k1_t151 : Fin (k1_t151_loop v2766 v2768).trips) (k1_t154 : Fin (k1_t154_loop v2766 v2768 k1_t151).trips), ∀ a, (k1_off2096 v2766 v2768 k1_t151 k1_t154) a + S1x16.size a ≤ S72x256.size a) ∧
  (∀ (k1_t151 : Fin (k1_t151_loop v2766 v2768).trips) (k1_t154 : Fin (k1_t154_loop v2766 v2768 k1_t151).trips), ∀ a, (k1_off2097 v2766 v2768 k1_t151 k1_t154) a + S1x16.size a ≤ S72x256.size a) ∧
  (∀ (k1_t151 : Fin (k1_t151_loop v2766 v2768).trips) (k1_t154 : Fin (k1_t154_loop v2766 v2768 k1_t151).trips), ∀ a, (k1_off2098 v2766 v2768 k1_t151 k1_t154) a + S1x16.size a ≤ S72x256.size a) ∧
  (∀ (k1_t151 : Fin (k1_t151_loop v2766 v2768).trips) (k1_t154 : Fin (k1_t154_loop v2766 v2768 k1_t151).trips), ∀ a, (k1_off2099 v2766 v2768 k1_t151 k1_t154) a + S1x16.size a ≤ S72x256.size a) ∧
  (∀ (k1_t151 : Fin (k1_t151_loop v2766 v2768).trips) (k1_t154 : Fin (k1_t154_loop v2766 v2768 k1_t151).trips), ∀ a, (k1_off2100 v2766 v2768 k1_t151 k1_t154) a + S1x16.size a ≤ S72x256.size a) ∧
  (∀ (k1_t151 : Fin (k1_t151_loop v2766 v2768).trips) (k1_t154 : Fin (k1_t154_loop v2766 v2768 k1_t151).trips), ∀ a, (k1_off2101 v2766 v2768 k1_t151 k1_t154) a + S1x16.size a ≤ S72x256.size a) ∧
  (∀ (k1_t151 : Fin (k1_t151_loop v2766 v2768).trips) (k1_t154 : Fin (k1_t154_loop v2766 v2768 k1_t151).trips), ∀ a, (k1_off2102 v2766 v2768 k1_t151 k1_t154) a + S1x16.size a ≤ S72x256.size a) ∧
  (∀ (k1_t151 : Fin (k1_t151_loop v2766 v2768).trips) (k1_t154 : Fin (k1_t154_loop v2766 v2768 k1_t151).trips), ∀ a, (k1_off2103 v2766 v2768 k1_t151 k1_t154) a + S1x16.size a ≤ S72x256.size a) ∧
  (∀ (k1_t151 : Fin (k1_t151_loop v2766 v2768).trips) (k1_t154 : Fin (k1_t154_loop v2766 v2768 k1_t151).trips), ∀ a, (k1_off2104 v2766 v2768 k1_t151 k1_t154) a + S1x16.size a ≤ S72x256.size a) ∧
  (∀ (k1_t151 : Fin (k1_t151_loop v2766 v2768).trips) (k1_t154 : Fin (k1_t154_loop v2766 v2768 k1_t151).trips), ∀ a, (k1_off2105 v2766 v2768 k1_t151 k1_t154) a + S1x16.size a ≤ S72x256.size a) ∧
  (∀ (k1_t151 : Fin (k1_t151_loop v2766 v2768).trips) (k1_t154 : Fin (k1_t154_loop v2766 v2768 k1_t151).trips), ∀ a, (k1_off2106 v2766 v2768 k1_t151 k1_t154) a + S1x16.size a ≤ S72x256.size a) ∧
  (∀ (k1_t151 : Fin (k1_t151_loop v2766 v2768).trips) (k1_t154 : Fin (k1_t154_loop v2766 v2768 k1_t151).trips), ∀ a, (k1_off2107 v2766 v2768 k1_t151 k1_t154) a + S1x16.size a ≤ S72x256.size a) ∧
  (∀ (k1_t151 : Fin (k1_t151_loop v2766 v2768).trips) (k1_t154 : Fin (k1_t154_loop v2766 v2768 k1_t151).trips), ∀ a, (k1_off2108 v2766 v2768 k1_t151 k1_t154) a + S1x16.size a ≤ S72x256.size a) ∧
  (∀ (k1_t151 : Fin (k1_t151_loop v2766 v2768).trips) (k1_t154 : Fin (k1_t154_loop v2766 v2768 k1_t151).trips), ∀ a, (k1_off2109 v2766 v2768 k1_t151 k1_t154) a + S1x16.size a ≤ S72x256.size a) ∧
  (∀ k1_t151 : Fin (k1_t151_loop v2766 v2768).trips, (k1_t155_loop v2766 v2768 k1_t151).OK) ∧
  (∀ (k1_t151 : Fin (k1_t151_loop v2766 v2768).trips) (k1_t155 : Fin (k1_t155_loop v2766 v2768 k1_t151).trips), ∀ a, (k1_off2110 v2766 v2768 k1_t151 k1_t155) a + S1x16.size a ≤ S72x256.size a) ∧
  (∀ (k1_t151 : Fin (k1_t151_loop v2766 v2768).trips) (k1_t155 : Fin (k1_t155_loop v2766 v2768 k1_t151).trips), ∀ a, (k1_off2111 v2766 v2768 k1_t151 k1_t155) a + S1x16.size a ≤ S72x256.size a) ∧
  (∀ (k1_t151 : Fin (k1_t151_loop v2766 v2768).trips) (k1_t155 : Fin (k1_t155_loop v2766 v2768 k1_t151).trips), ∀ a, (k1_off2112 v2766 v2768 k1_t151 k1_t155) a + S1x16.size a ≤ S72x256.size a) ∧
  (∀ (k1_t151 : Fin (k1_t151_loop v2766 v2768).trips) (k1_t155 : Fin (k1_t155_loop v2766 v2768 k1_t151).trips), ∀ a, (k1_off2113 v2766 v2768 k1_t151 k1_t155) a + S1x16.size a ≤ S72x256.size a) ∧
  (∀ (k1_t151 : Fin (k1_t151_loop v2766 v2768).trips) (k1_t155 : Fin (k1_t155_loop v2766 v2768 k1_t151).trips), ∀ a, (k1_off2114 v2766 v2768 k1_t151 k1_t155) a + S1x16.size a ≤ S72x256.size a) ∧
  (∀ (k1_t151 : Fin (k1_t151_loop v2766 v2768).trips) (k1_t155 : Fin (k1_t155_loop v2766 v2768 k1_t151).trips), ∀ a, (k1_off2115 v2766 v2768 k1_t151 k1_t155) a + S1x16.size a ≤ S72x256.size a)
def k1_chk16_2 (i : grid1.Coords) (v2766 : BitVec 32) (v2768 : BitVec 32) : Prop :=
  (∀ (k1_t151 : Fin (k1_t151_loop v2766 v2768).trips) (k1_t155 : Fin (k1_t155_loop v2766 v2768 k1_t151).trips), ∀ a, (k1_off2116 v2766 v2768 k1_t151 k1_t155) a + S1x16.size a ≤ S72x256.size a) ∧
  (∀ (k1_t151 : Fin (k1_t151_loop v2766 v2768).trips) (k1_t155 : Fin (k1_t155_loop v2766 v2768 k1_t151).trips), ∀ a, (k1_off2117 v2766 v2768 k1_t151 k1_t155) a + S1x16.size a ≤ S72x256.size a) ∧
  (∀ (k1_t151 : Fin (k1_t151_loop v2766 v2768).trips) (k1_t155 : Fin (k1_t155_loop v2766 v2768 k1_t151).trips), ∀ a, (k1_off2118 v2766 v2768 k1_t151 k1_t155) a + S1x16.size a ≤ S72x256.size a) ∧
  (∀ (k1_t151 : Fin (k1_t151_loop v2766 v2768).trips) (k1_t155 : Fin (k1_t155_loop v2766 v2768 k1_t151).trips), ∀ a, (k1_off2119 v2766 v2768 k1_t151 k1_t155) a + S1x16.size a ≤ S72x256.size a) ∧
  (∀ (k1_t151 : Fin (k1_t151_loop v2766 v2768).trips) (k1_t155 : Fin (k1_t155_loop v2766 v2768 k1_t151).trips), ∀ a, (k1_off2120 v2766 v2768 k1_t151 k1_t155) a + S1x16.size a ≤ S72x256.size a) ∧
  (∀ (k1_t151 : Fin (k1_t151_loop v2766 v2768).trips) (k1_t155 : Fin (k1_t155_loop v2766 v2768 k1_t151).trips), ∀ a, (k1_off2121 v2766 v2768 k1_t151 k1_t155) a + S1x16.size a ≤ S72x256.size a) ∧
  (∀ (k1_t151 : Fin (k1_t151_loop v2766 v2768).trips) (k1_t155 : Fin (k1_t155_loop v2766 v2768 k1_t151).trips), ∀ a, (k1_off2122 v2766 v2768 k1_t151 k1_t155) a + S1x16.size a ≤ S72x256.size a) ∧
  (∀ (k1_t151 : Fin (k1_t151_loop v2766 v2768).trips) (k1_t155 : Fin (k1_t155_loop v2766 v2768 k1_t151).trips), ∀ a, (k1_off2123 v2766 v2768 k1_t151 k1_t155) a + S1x16.size a ≤ S72x256.size a) ∧
  (∀ (k1_t151 : Fin (k1_t151_loop v2766 v2768).trips) (k1_t155 : Fin (k1_t155_loop v2766 v2768 k1_t151).trips), ∀ a, (k1_off2124 v2766 v2768 k1_t151 k1_t155) a + S1x16.size a ≤ S72x256.size a) ∧
  (∀ (k1_t151 : Fin (k1_t151_loop v2766 v2768).trips) (k1_t155 : Fin (k1_t155_loop v2766 v2768 k1_t151).trips), ∀ a, (k1_off2125 v2766 v2768 k1_t151 k1_t155) a + S1x16.size a ≤ S72x256.size a) ∧
  ((k1_t156_loop v2766 v2768).OK) ∧
  (∀ k1_t156 : Fin (k1_t156_loop v2766 v2768).trips, ∀ (k1_h141 : k1_cond141 v2766 v2768 k1_t156 = 1#1), ∀ a, (k1_off2126 i v2766 v2768 k1_t156) a + S72x256.size a ≤ S100000x512.size a) ∧
  (∀ k1_t156 : Fin (k1_t156_loop v2766 v2768).trips, ∀ (k1_h141 : k1_cond141 v2766 v2768 k1_t156 = 1#1), ∀ (k1_h142 : k1_cond142 v2766 v2768 k1_t156 = 1#1), ∀ a, (k1_off2127 i v2766 v2768 k1_t156) a + S72x256.size a ≤ S100000x512.size a) ∧
  (∀ k1_t156 : Fin (k1_t156_loop v2766 v2768).trips, (k1_t157_loop v2766 v2768 k1_t156).OK) ∧
  (∀ (k1_t156 : Fin (k1_t156_loop v2766 v2768).trips) (k1_t157 : Fin (k1_t157_loop v2766 v2768 k1_t156).trips), ∀ a, (k1_off2128 v2766 v2768 k1_t156 k1_t157) a + S1x16.size a ≤ S72x256.size a) ∧
  (∀ (k1_t156 : Fin (k1_t156_loop v2766 v2768).trips) (k1_t157 : Fin (k1_t157_loop v2766 v2768 k1_t156).trips), ∀ a, (k1_off2129 v2766 v2768 k1_t156 k1_t157) a + S1x16.size a ≤ S72x256.size a) ∧
  (∀ (k1_t156 : Fin (k1_t156_loop v2766 v2768).trips) (k1_t157 : Fin (k1_t157_loop v2766 v2768 k1_t156).trips), ∀ a, (k1_off2130 v2766 v2768 k1_t156 k1_t157) a + S1x16.size a ≤ S72x256.size a) ∧
  (∀ (k1_t156 : Fin (k1_t156_loop v2766 v2768).trips) (k1_t157 : Fin (k1_t157_loop v2766 v2768 k1_t156).trips), ∀ a, (k1_off2131 v2766 v2768 k1_t156 k1_t157) a + S1x16.size a ≤ S72x256.size a) ∧
  (∀ (k1_t156 : Fin (k1_t156_loop v2766 v2768).trips) (k1_t157 : Fin (k1_t157_loop v2766 v2768 k1_t156).trips), ∀ a, (k1_off2132 v2766 v2768 k1_t156 k1_t157) a + S1x16.size a ≤ S72x256.size a) ∧
  (∀ (k1_t156 : Fin (k1_t156_loop v2766 v2768).trips) (k1_t157 : Fin (k1_t157_loop v2766 v2768 k1_t156).trips), ∀ a, (k1_off2133 v2766 v2768 k1_t156 k1_t157) a + S1x16.size a ≤ S72x256.size a) ∧
  (∀ (k1_t156 : Fin (k1_t156_loop v2766 v2768).trips) (k1_t157 : Fin (k1_t157_loop v2766 v2768 k1_t156).trips), ∀ a, (k1_off2134 v2766 v2768 k1_t156 k1_t157) a + S1x16.size a ≤ S72x256.size a) ∧
  (∀ (k1_t156 : Fin (k1_t156_loop v2766 v2768).trips) (k1_t157 : Fin (k1_t157_loop v2766 v2768 k1_t156).trips), ∀ a, (k1_off2135 v2766 v2768 k1_t156 k1_t157) a + S1x16.size a ≤ S72x256.size a) ∧
  (∀ (k1_t156 : Fin (k1_t156_loop v2766 v2768).trips) (k1_t157 : Fin (k1_t157_loop v2766 v2768 k1_t156).trips), ∀ a, (k1_off2136 v2766 v2768 k1_t156 k1_t157) a + S1x16.size a ≤ S72x256.size a) ∧
  (∀ (k1_t156 : Fin (k1_t156_loop v2766 v2768).trips) (k1_t157 : Fin (k1_t157_loop v2766 v2768 k1_t156).trips), ∀ a, (k1_off2137 v2766 v2768 k1_t156 k1_t157) a + S1x16.size a ≤ S72x256.size a) ∧
  (∀ (k1_t156 : Fin (k1_t156_loop v2766 v2768).trips) (k1_t157 : Fin (k1_t157_loop v2766 v2768 k1_t156).trips), ∀ a, (k1_off2138 v2766 v2768 k1_t156 k1_t157) a + S1x16.size a ≤ S72x256.size a) ∧
  (∀ (k1_t156 : Fin (k1_t156_loop v2766 v2768).trips) (k1_t157 : Fin (k1_t157_loop v2766 v2768 k1_t156).trips), ∀ a, (k1_off2139 v2766 v2768 k1_t156 k1_t157) a + S1x16.size a ≤ S72x256.size a) ∧
  (∀ (k1_t156 : Fin (k1_t156_loop v2766 v2768).trips) (k1_t157 : Fin (k1_t157_loop v2766 v2768 k1_t156).trips), ∀ a, (k1_off2140 v2766 v2768 k1_t156 k1_t157) a + S1x16.size a ≤ S72x256.size a) ∧
  (∀ (k1_t156 : Fin (k1_t156_loop v2766 v2768).trips) (k1_t157 : Fin (k1_t157_loop v2766 v2768 k1_t156).trips), ∀ a, (k1_off2141 v2766 v2768 k1_t156 k1_t157) a + S1x16.size a ≤ S72x256.size a) ∧
  (∀ (k1_t156 : Fin (k1_t156_loop v2766 v2768).trips) (k1_t157 : Fin (k1_t157_loop v2766 v2768 k1_t156).trips), ∀ a, (k1_off2142 v2766 v2768 k1_t156 k1_t157) a + S1x16.size a ≤ S72x256.size a) ∧
  (∀ (k1_t156 : Fin (k1_t156_loop v2766 v2768).trips) (k1_t157 : Fin (k1_t157_loop v2766 v2768 k1_t156).trips), ∀ a, (k1_off2143 v2766 v2768 k1_t156 k1_t157) a + S1x16.size a ≤ S72x256.size a) ∧
  (∀ k1_t156 : Fin (k1_t156_loop v2766 v2768).trips, (k1_t158_loop v2766 v2768 k1_t156).OK) ∧
  (∀ (k1_t156 : Fin (k1_t156_loop v2766 v2768).trips) (k1_t158 : Fin (k1_t158_loop v2766 v2768 k1_t156).trips), ∀ a, (k1_off2144 v2766 v2768 k1_t156 k1_t158) a + S1x16.size a ≤ S72x256.size a)
def k1_chk16_3 (i : grid1.Coords) (v2766 : BitVec 32) (v2768 : BitVec 32) : Prop :=
  (∀ (k1_t156 : Fin (k1_t156_loop v2766 v2768).trips) (k1_t158 : Fin (k1_t158_loop v2766 v2768 k1_t156).trips), ∀ a, (k1_off2145 v2766 v2768 k1_t156 k1_t158) a + S1x16.size a ≤ S72x256.size a) ∧
  (∀ (k1_t156 : Fin (k1_t156_loop v2766 v2768).trips) (k1_t158 : Fin (k1_t158_loop v2766 v2768 k1_t156).trips), ∀ a, (k1_off2146 v2766 v2768 k1_t156 k1_t158) a + S1x16.size a ≤ S72x256.size a) ∧
  (∀ (k1_t156 : Fin (k1_t156_loop v2766 v2768).trips) (k1_t158 : Fin (k1_t158_loop v2766 v2768 k1_t156).trips), ∀ a, (k1_off2147 v2766 v2768 k1_t156 k1_t158) a + S1x16.size a ≤ S72x256.size a) ∧
  (∀ (k1_t156 : Fin (k1_t156_loop v2766 v2768).trips) (k1_t158 : Fin (k1_t158_loop v2766 v2768 k1_t156).trips), ∀ a, (k1_off2148 v2766 v2768 k1_t156 k1_t158) a + S1x16.size a ≤ S72x256.size a) ∧
  (∀ (k1_t156 : Fin (k1_t156_loop v2766 v2768).trips) (k1_t158 : Fin (k1_t158_loop v2766 v2768 k1_t156).trips), ∀ a, (k1_off2149 v2766 v2768 k1_t156 k1_t158) a + S1x16.size a ≤ S72x256.size a) ∧
  (∀ (k1_t156 : Fin (k1_t156_loop v2766 v2768).trips) (k1_t158 : Fin (k1_t158_loop v2766 v2768 k1_t156).trips), ∀ a, (k1_off2150 v2766 v2768 k1_t156 k1_t158) a + S1x16.size a ≤ S72x256.size a) ∧
  (∀ (k1_t156 : Fin (k1_t156_loop v2766 v2768).trips) (k1_t158 : Fin (k1_t158_loop v2766 v2768 k1_t156).trips), ∀ a, (k1_off2151 v2766 v2768 k1_t156 k1_t158) a + S1x16.size a ≤ S72x256.size a) ∧
  (∀ (k1_t156 : Fin (k1_t156_loop v2766 v2768).trips) (k1_t158 : Fin (k1_t158_loop v2766 v2768 k1_t156).trips), ∀ a, (k1_off2152 v2766 v2768 k1_t156 k1_t158) a + S1x16.size a ≤ S72x256.size a) ∧
  (∀ (k1_t156 : Fin (k1_t156_loop v2766 v2768).trips) (k1_t158 : Fin (k1_t158_loop v2766 v2768 k1_t156).trips), ∀ a, (k1_off2153 v2766 v2768 k1_t156 k1_t158) a + S1x16.size a ≤ S72x256.size a) ∧
  (∀ (k1_t156 : Fin (k1_t156_loop v2766 v2768).trips) (k1_t158 : Fin (k1_t158_loop v2766 v2768 k1_t156).trips), ∀ a, (k1_off2154 v2766 v2768 k1_t156 k1_t158) a + S1x16.size a ≤ S72x256.size a) ∧
  (∀ (k1_t156 : Fin (k1_t156_loop v2766 v2768).trips) (k1_t158 : Fin (k1_t158_loop v2766 v2768 k1_t156).trips), ∀ a, (k1_off2155 v2766 v2768 k1_t156 k1_t158) a + S1x16.size a ≤ S72x256.size a) ∧
  (∀ (k1_t156 : Fin (k1_t156_loop v2766 v2768).trips) (k1_t158 : Fin (k1_t158_loop v2766 v2768 k1_t156).trips), ∀ a, (k1_off2156 v2766 v2768 k1_t156 k1_t158) a + S1x16.size a ≤ S72x256.size a) ∧
  (∀ (k1_t156 : Fin (k1_t156_loop v2766 v2768).trips) (k1_t158 : Fin (k1_t158_loop v2766 v2768 k1_t156).trips), ∀ a, (k1_off2157 v2766 v2768 k1_t156 k1_t158) a + S1x16.size a ≤ S72x256.size a) ∧
  (∀ (k1_t156 : Fin (k1_t156_loop v2766 v2768).trips) (k1_t158 : Fin (k1_t158_loop v2766 v2768 k1_t156).trips), ∀ a, (k1_off2158 v2766 v2768 k1_t156 k1_t158) a + S1x16.size a ≤ S72x256.size a) ∧
  (∀ (k1_t156 : Fin (k1_t156_loop v2766 v2768).trips) (k1_t158 : Fin (k1_t158_loop v2766 v2768 k1_t156).trips), ∀ a, (k1_off2159 v2766 v2768 k1_t156 k1_t158) a + S1x16.size a ≤ S72x256.size a) ∧
  (∀ k1_t156 : Fin (k1_t156_loop v2766 v2768).trips, ∀ (k1_h143 : k1_cond143 v2766 v2768 k1_t156 = 1#1), ∀ a, (k1_off2160 i v2766 v2768 k1_t156) a + S72x256.size a ≤ S100000x512.size a) ∧
  (∀ k1_t156 : Fin (k1_t156_loop v2766 v2768).trips, ∀ (k1_h143 : k1_cond143 v2766 v2768 k1_t156 = 1#1), ∀ (k1_h144 : k1_cond144 v2766 v2768 k1_t156 = 1#1), ∀ a, (k1_off2161 i v2766 v2768 k1_t156) a + S72x256.size a ≤ S100000x512.size a) ∧
  (∀ k1_t156 : Fin (k1_t156_loop v2766 v2768).trips, (k1_t159_loop v2766 v2768 k1_t156).OK) ∧
  (∀ (k1_t156 : Fin (k1_t156_loop v2766 v2768).trips) (k1_t159 : Fin (k1_t159_loop v2766 v2768 k1_t156).trips), ∀ a, (k1_off2162 v2766 v2768 k1_t156 k1_t159) a + S1x16.size a ≤ S72x256.size a) ∧
  (∀ (k1_t156 : Fin (k1_t156_loop v2766 v2768).trips) (k1_t159 : Fin (k1_t159_loop v2766 v2768 k1_t156).trips), ∀ a, (k1_off2163 v2766 v2768 k1_t156 k1_t159) a + S1x16.size a ≤ S72x256.size a) ∧
  (∀ (k1_t156 : Fin (k1_t156_loop v2766 v2768).trips) (k1_t159 : Fin (k1_t159_loop v2766 v2768 k1_t156).trips), ∀ a, (k1_off2164 v2766 v2768 k1_t156 k1_t159) a + S1x16.size a ≤ S72x256.size a) ∧
  (∀ (k1_t156 : Fin (k1_t156_loop v2766 v2768).trips) (k1_t159 : Fin (k1_t159_loop v2766 v2768 k1_t156).trips), ∀ a, (k1_off2165 v2766 v2768 k1_t156 k1_t159) a + S1x16.size a ≤ S72x256.size a) ∧
  (∀ (k1_t156 : Fin (k1_t156_loop v2766 v2768).trips) (k1_t159 : Fin (k1_t159_loop v2766 v2768 k1_t156).trips), ∀ a, (k1_off2166 v2766 v2768 k1_t156 k1_t159) a + S1x16.size a ≤ S72x256.size a) ∧
  (∀ (k1_t156 : Fin (k1_t156_loop v2766 v2768).trips) (k1_t159 : Fin (k1_t159_loop v2766 v2768 k1_t156).trips), ∀ a, (k1_off2167 v2766 v2768 k1_t156 k1_t159) a + S1x16.size a ≤ S72x256.size a) ∧
  (∀ (k1_t156 : Fin (k1_t156_loop v2766 v2768).trips) (k1_t159 : Fin (k1_t159_loop v2766 v2768 k1_t156).trips), ∀ a, (k1_off2168 v2766 v2768 k1_t156 k1_t159) a + S1x16.size a ≤ S72x256.size a) ∧
  (∀ (k1_t156 : Fin (k1_t156_loop v2766 v2768).trips) (k1_t159 : Fin (k1_t159_loop v2766 v2768 k1_t156).trips), ∀ a, (k1_off2169 v2766 v2768 k1_t156 k1_t159) a + S1x16.size a ≤ S72x256.size a) ∧
  (∀ (k1_t156 : Fin (k1_t156_loop v2766 v2768).trips) (k1_t159 : Fin (k1_t159_loop v2766 v2768 k1_t156).trips), ∀ a, (k1_off2170 v2766 v2768 k1_t156 k1_t159) a + S1x16.size a ≤ S72x256.size a) ∧
  (∀ (k1_t156 : Fin (k1_t156_loop v2766 v2768).trips) (k1_t159 : Fin (k1_t159_loop v2766 v2768 k1_t156).trips), ∀ a, (k1_off2171 v2766 v2768 k1_t156 k1_t159) a + S1x16.size a ≤ S72x256.size a) ∧
  (∀ (k1_t156 : Fin (k1_t156_loop v2766 v2768).trips) (k1_t159 : Fin (k1_t159_loop v2766 v2768 k1_t156).trips), ∀ a, (k1_off2172 v2766 v2768 k1_t156 k1_t159) a + S1x16.size a ≤ S72x256.size a) ∧
  (∀ (k1_t156 : Fin (k1_t156_loop v2766 v2768).trips) (k1_t159 : Fin (k1_t159_loop v2766 v2768 k1_t156).trips), ∀ a, (k1_off2173 v2766 v2768 k1_t156 k1_t159) a + S1x16.size a ≤ S72x256.size a) ∧
  (∀ (k1_t156 : Fin (k1_t156_loop v2766 v2768).trips) (k1_t159 : Fin (k1_t159_loop v2766 v2768 k1_t156).trips), ∀ a, (k1_off2174 v2766 v2768 k1_t156 k1_t159) a + S1x16.size a ≤ S72x256.size a) ∧
  (∀ (k1_t156 : Fin (k1_t156_loop v2766 v2768).trips) (k1_t159 : Fin (k1_t159_loop v2766 v2768 k1_t156).trips), ∀ a, (k1_off2175 v2766 v2768 k1_t156 k1_t159) a + S1x16.size a ≤ S72x256.size a)
def k1_chk16_4 (i : grid1.Coords) (v2766 : BitVec 32) (v2768 : BitVec 32) : Prop :=
  (∀ (k1_t156 : Fin (k1_t156_loop v2766 v2768).trips) (k1_t159 : Fin (k1_t159_loop v2766 v2768 k1_t156).trips), ∀ a, (k1_off2176 v2766 v2768 k1_t156 k1_t159) a + S1x16.size a ≤ S72x256.size a) ∧
  (∀ (k1_t156 : Fin (k1_t156_loop v2766 v2768).trips) (k1_t159 : Fin (k1_t159_loop v2766 v2768 k1_t156).trips), ∀ a, (k1_off2177 v2766 v2768 k1_t156 k1_t159) a + S1x16.size a ≤ S72x256.size a) ∧
  (∀ k1_t156 : Fin (k1_t156_loop v2766 v2768).trips, (k1_t160_loop v2766 v2768 k1_t156).OK) ∧
  (∀ (k1_t156 : Fin (k1_t156_loop v2766 v2768).trips) (k1_t160 : Fin (k1_t160_loop v2766 v2768 k1_t156).trips), ∀ a, (k1_off2178 v2766 v2768 k1_t156 k1_t160) a + S1x16.size a ≤ S72x256.size a) ∧
  (∀ (k1_t156 : Fin (k1_t156_loop v2766 v2768).trips) (k1_t160 : Fin (k1_t160_loop v2766 v2768 k1_t156).trips), ∀ a, (k1_off2179 v2766 v2768 k1_t156 k1_t160) a + S1x16.size a ≤ S72x256.size a) ∧
  (∀ (k1_t156 : Fin (k1_t156_loop v2766 v2768).trips) (k1_t160 : Fin (k1_t160_loop v2766 v2768 k1_t156).trips), ∀ a, (k1_off2180 v2766 v2768 k1_t156 k1_t160) a + S1x16.size a ≤ S72x256.size a) ∧
  (∀ (k1_t156 : Fin (k1_t156_loop v2766 v2768).trips) (k1_t160 : Fin (k1_t160_loop v2766 v2768 k1_t156).trips), ∀ a, (k1_off2181 v2766 v2768 k1_t156 k1_t160) a + S1x16.size a ≤ S72x256.size a) ∧
  (∀ (k1_t156 : Fin (k1_t156_loop v2766 v2768).trips) (k1_t160 : Fin (k1_t160_loop v2766 v2768 k1_t156).trips), ∀ a, (k1_off2182 v2766 v2768 k1_t156 k1_t160) a + S1x16.size a ≤ S72x256.size a) ∧
  (∀ (k1_t156 : Fin (k1_t156_loop v2766 v2768).trips) (k1_t160 : Fin (k1_t160_loop v2766 v2768 k1_t156).trips), ∀ a, (k1_off2183 v2766 v2768 k1_t156 k1_t160) a + S1x16.size a ≤ S72x256.size a) ∧
  (∀ (k1_t156 : Fin (k1_t156_loop v2766 v2768).trips) (k1_t160 : Fin (k1_t160_loop v2766 v2768 k1_t156).trips), ∀ a, (k1_off2184 v2766 v2768 k1_t156 k1_t160) a + S1x16.size a ≤ S72x256.size a) ∧
  (∀ (k1_t156 : Fin (k1_t156_loop v2766 v2768).trips) (k1_t160 : Fin (k1_t160_loop v2766 v2768 k1_t156).trips), ∀ a, (k1_off2185 v2766 v2768 k1_t156 k1_t160) a + S1x16.size a ≤ S72x256.size a) ∧
  (∀ (k1_t156 : Fin (k1_t156_loop v2766 v2768).trips) (k1_t160 : Fin (k1_t160_loop v2766 v2768 k1_t156).trips), ∀ a, (k1_off2186 v2766 v2768 k1_t156 k1_t160) a + S1x16.size a ≤ S72x256.size a) ∧
  (∀ (k1_t156 : Fin (k1_t156_loop v2766 v2768).trips) (k1_t160 : Fin (k1_t160_loop v2766 v2768 k1_t156).trips), ∀ a, (k1_off2187 v2766 v2768 k1_t156 k1_t160) a + S1x16.size a ≤ S72x256.size a) ∧
  (∀ (k1_t156 : Fin (k1_t156_loop v2766 v2768).trips) (k1_t160 : Fin (k1_t160_loop v2766 v2768 k1_t156).trips), ∀ a, (k1_off2188 v2766 v2768 k1_t156 k1_t160) a + S1x16.size a ≤ S72x256.size a) ∧
  (∀ (k1_t156 : Fin (k1_t156_loop v2766 v2768).trips) (k1_t160 : Fin (k1_t160_loop v2766 v2768 k1_t156).trips), ∀ a, (k1_off2189 v2766 v2768 k1_t156 k1_t160) a + S1x16.size a ≤ S72x256.size a) ∧
  (∀ (k1_t156 : Fin (k1_t156_loop v2766 v2768).trips) (k1_t160 : Fin (k1_t160_loop v2766 v2768 k1_t156).trips), ∀ a, (k1_off2190 v2766 v2768 k1_t156 k1_t160) a + S1x16.size a ≤ S72x256.size a) ∧
  (∀ (k1_t156 : Fin (k1_t156_loop v2766 v2768).trips) (k1_t160 : Fin (k1_t160_loop v2766 v2768 k1_t156).trips), ∀ a, (k1_off2191 v2766 v2768 k1_t156 k1_t160) a + S1x16.size a ≤ S72x256.size a) ∧
  (∀ (k1_t156 : Fin (k1_t156_loop v2766 v2768).trips) (k1_t160 : Fin (k1_t160_loop v2766 v2768 k1_t156).trips), ∀ a, (k1_off2192 v2766 v2768 k1_t156 k1_t160) a + S1x16.size a ≤ S72x256.size a) ∧
  (∀ (k1_t156 : Fin (k1_t156_loop v2766 v2768).trips) (k1_t160 : Fin (k1_t160_loop v2766 v2768 k1_t156).trips), ∀ a, (k1_off2193 v2766 v2768 k1_t156 k1_t160) a + S1x16.size a ≤ S72x256.size a)
def k1_chk16 (i : grid1.Coords) (v2766 : BitVec 32) (v2768 : BitVec 32) : Prop :=
  k1_chk16_0 i v2766 v2768 ∧
  k1_chk16_1 i v2766 v2768 ∧
  k1_chk16_2 i v2766 v2768 ∧
  k1_chk16_3 i v2766 v2768 ∧
  k1_chk16_4 i v2766 v2768
theorem k1_off2057_inb : ∀ (i : grid1.Coords) (v2766 : BitVec 32) (v2768 : BitVec 32) (k1_hw16 : k1_chk16 i v2766 v2768), ∀ (k1_h136 : k1_cond136 v2766 v2768 = 1#1), ∀ a, (k1_off2057 i v2766) a + S72x256.size a ≤ S100000x512.size a := fun i v2766 v2768 k1_hw16 k1_h136 => k1_hw16.1.1 k1_h136
theorem k1_t151_ok : ∀ (i : grid1.Coords) (v2766 : BitVec 32) (v2768 : BitVec 32) (k1_hw16 : k1_chk16 i v2766 v2768), (k1_t151_loop v2766 v2768).OK := fun i v2766 v2768 k1_hw16 => k1_hw16.1.2.1
theorem k1_off2058_inb : ∀ (i : grid1.Coords) (v2766 : BitVec 32) (v2768 : BitVec 32) (k1_hw16 : k1_chk16 i v2766 v2768) (k1_t151 : Fin (k1_t151_loop v2766 v2768).trips), ∀ (k1_h137 : k1_cond137 v2766 v2768 k1_t151 = 1#1), ∀ a, (k1_off2058 i v2766 v2768 k1_t151) a + S72x256.size a ≤ S100000x512.size a := fun i v2766 v2768 k1_hw16 k1_t151 k1_h137 => k1_hw16.1.2.2.1 k1_t151 k1_h137
theorem k1_off2059_inb : ∀ (i : grid1.Coords) (v2766 : BitVec 32) (v2768 : BitVec 32) (k1_hw16 : k1_chk16 i v2766 v2768) (k1_t151 : Fin (k1_t151_loop v2766 v2768).trips), ∀ (k1_h137 : k1_cond137 v2766 v2768 k1_t151 = 1#1), ∀ (k1_h138 : k1_cond138 v2766 v2768 k1_t151 = 1#1), ∀ a, (k1_off2059 i v2766 v2768 k1_t151) a + S72x256.size a ≤ S100000x512.size a := fun i v2766 v2768 k1_hw16 k1_t151 k1_h137 k1_h138 => k1_hw16.1.2.2.2.1 k1_t151 k1_h137 k1_h138
theorem k1_t152_ok : ∀ (i : grid1.Coords) (v2766 : BitVec 32) (v2768 : BitVec 32) (k1_hw16 : k1_chk16 i v2766 v2768) (k1_t151 : Fin (k1_t151_loop v2766 v2768).trips), (k1_t152_loop v2766 v2768 k1_t151).OK := fun i v2766 v2768 k1_hw16 k1_t151 => k1_hw16.1.2.2.2.2.1 k1_t151
theorem k1_off2060_inb : ∀ (i : grid1.Coords) (v2766 : BitVec 32) (v2768 : BitVec 32) (k1_hw16 : k1_chk16 i v2766 v2768) (k1_t151 : Fin (k1_t151_loop v2766 v2768).trips) (k1_t152 : Fin (k1_t152_loop v2766 v2768 k1_t151).trips), ∀ a, (k1_off2060 v2766 v2768 k1_t151 k1_t152) a + S1x16.size a ≤ S72x256.size a := fun i v2766 v2768 k1_hw16 k1_t151 k1_t152 => k1_hw16.1.2.2.2.2.2.1 k1_t151 k1_t152
theorem k1_off2061_inb : ∀ (i : grid1.Coords) (v2766 : BitVec 32) (v2768 : BitVec 32) (k1_hw16 : k1_chk16 i v2766 v2768) (k1_t151 : Fin (k1_t151_loop v2766 v2768).trips) (k1_t152 : Fin (k1_t152_loop v2766 v2768 k1_t151).trips), ∀ a, (k1_off2061 v2766 v2768 k1_t151 k1_t152) a + S1x16.size a ≤ S72x256.size a := fun i v2766 v2768 k1_hw16 k1_t151 k1_t152 => k1_hw16.1.2.2.2.2.2.2.1 k1_t151 k1_t152
theorem k1_off2062_inb : ∀ (i : grid1.Coords) (v2766 : BitVec 32) (v2768 : BitVec 32) (k1_hw16 : k1_chk16 i v2766 v2768) (k1_t151 : Fin (k1_t151_loop v2766 v2768).trips) (k1_t152 : Fin (k1_t152_loop v2766 v2768 k1_t151).trips), ∀ a, (k1_off2062 v2766 v2768 k1_t151 k1_t152) a + S1x16.size a ≤ S72x256.size a := fun i v2766 v2768 k1_hw16 k1_t151 k1_t152 => k1_hw16.1.2.2.2.2.2.2.2.1 k1_t151 k1_t152
theorem k1_off2063_inb : ∀ (i : grid1.Coords) (v2766 : BitVec 32) (v2768 : BitVec 32) (k1_hw16 : k1_chk16 i v2766 v2768) (k1_t151 : Fin (k1_t151_loop v2766 v2768).trips) (k1_t152 : Fin (k1_t152_loop v2766 v2768 k1_t151).trips), ∀ a, (k1_off2063 v2766 v2768 k1_t151 k1_t152) a + S1x16.size a ≤ S72x256.size a := fun i v2766 v2768 k1_hw16 k1_t151 k1_t152 => k1_hw16.1.2.2.2.2.2.2.2.2.1 k1_t151 k1_t152
theorem k1_off2064_inb : ∀ (i : grid1.Coords) (v2766 : BitVec 32) (v2768 : BitVec 32) (k1_hw16 : k1_chk16 i v2766 v2768) (k1_t151 : Fin (k1_t151_loop v2766 v2768).trips) (k1_t152 : Fin (k1_t152_loop v2766 v2768 k1_t151).trips), ∀ a, (k1_off2064 v2766 v2768 k1_t151 k1_t152) a + S1x16.size a ≤ S72x256.size a := fun i v2766 v2768 k1_hw16 k1_t151 k1_t152 => k1_hw16.1.2.2.2.2.2.2.2.2.2.1 k1_t151 k1_t152
theorem k1_off2065_inb : ∀ (i : grid1.Coords) (v2766 : BitVec 32) (v2768 : BitVec 32) (k1_hw16 : k1_chk16 i v2766 v2768) (k1_t151 : Fin (k1_t151_loop v2766 v2768).trips) (k1_t152 : Fin (k1_t152_loop v2766 v2768 k1_t151).trips), ∀ a, (k1_off2065 v2766 v2768 k1_t151 k1_t152) a + S1x16.size a ≤ S72x256.size a := fun i v2766 v2768 k1_hw16 k1_t151 k1_t152 => k1_hw16.1.2.2.2.2.2.2.2.2.2.2.1 k1_t151 k1_t152
theorem k1_off2066_inb : ∀ (i : grid1.Coords) (v2766 : BitVec 32) (v2768 : BitVec 32) (k1_hw16 : k1_chk16 i v2766 v2768) (k1_t151 : Fin (k1_t151_loop v2766 v2768).trips) (k1_t152 : Fin (k1_t152_loop v2766 v2768 k1_t151).trips), ∀ a, (k1_off2066 v2766 v2768 k1_t151 k1_t152) a + S1x16.size a ≤ S72x256.size a := fun i v2766 v2768 k1_hw16 k1_t151 k1_t152 => k1_hw16.1.2.2.2.2.2.2.2.2.2.2.2.1 k1_t151 k1_t152
theorem k1_off2067_inb : ∀ (i : grid1.Coords) (v2766 : BitVec 32) (v2768 : BitVec 32) (k1_hw16 : k1_chk16 i v2766 v2768) (k1_t151 : Fin (k1_t151_loop v2766 v2768).trips) (k1_t152 : Fin (k1_t152_loop v2766 v2768 k1_t151).trips), ∀ a, (k1_off2067 v2766 v2768 k1_t151 k1_t152) a + S1x16.size a ≤ S72x256.size a := fun i v2766 v2768 k1_hw16 k1_t151 k1_t152 => k1_hw16.1.2.2.2.2.2.2.2.2.2.2.2.2.1 k1_t151 k1_t152
theorem k1_off2068_inb : ∀ (i : grid1.Coords) (v2766 : BitVec 32) (v2768 : BitVec 32) (k1_hw16 : k1_chk16 i v2766 v2768) (k1_t151 : Fin (k1_t151_loop v2766 v2768).trips) (k1_t152 : Fin (k1_t152_loop v2766 v2768 k1_t151).trips), ∀ a, (k1_off2068 v2766 v2768 k1_t151 k1_t152) a + S1x16.size a ≤ S72x256.size a := fun i v2766 v2768 k1_hw16 k1_t151 k1_t152 => k1_hw16.1.2.2.2.2.2.2.2.2.2.2.2.2.2.1 k1_t151 k1_t152
theorem k1_off2069_inb : ∀ (i : grid1.Coords) (v2766 : BitVec 32) (v2768 : BitVec 32) (k1_hw16 : k1_chk16 i v2766 v2768) (k1_t151 : Fin (k1_t151_loop v2766 v2768).trips) (k1_t152 : Fin (k1_t152_loop v2766 v2768 k1_t151).trips), ∀ a, (k1_off2069 v2766 v2768 k1_t151 k1_t152) a + S1x16.size a ≤ S72x256.size a := fun i v2766 v2768 k1_hw16 k1_t151 k1_t152 => k1_hw16.1.2.2.2.2.2.2.2.2.2.2.2.2.2.2.1 k1_t151 k1_t152
theorem k1_off2070_inb : ∀ (i : grid1.Coords) (v2766 : BitVec 32) (v2768 : BitVec 32) (k1_hw16 : k1_chk16 i v2766 v2768) (k1_t151 : Fin (k1_t151_loop v2766 v2768).trips) (k1_t152 : Fin (k1_t152_loop v2766 v2768 k1_t151).trips), ∀ a, (k1_off2070 v2766 v2768 k1_t151 k1_t152) a + S1x16.size a ≤ S72x256.size a := fun i v2766 v2768 k1_hw16 k1_t151 k1_t152 => k1_hw16.1.2.2.2.2.2.2.2.2.2.2.2.2.2.2.2.1 k1_t151 k1_t152
theorem k1_off2071_inb : ∀ (i : grid1.Coords) (v2766 : BitVec 32) (v2768 : BitVec 32) (k1_hw16 : k1_chk16 i v2766 v2768) (k1_t151 : Fin (k1_t151_loop v2766 v2768).trips) (k1_t152 : Fin (k1_t152_loop v2766 v2768 k1_t151).trips), ∀ a, (k1_off2071 v2766 v2768 k1_t151 k1_t152) a + S1x16.size a ≤ S72x256.size a := fun i v2766 v2768 k1_hw16 k1_t151 k1_t152 => k1_hw16.1.2.2.2.2.2.2.2.2.2.2.2.2.2.2.2.2.1 k1_t151 k1_t152
theorem k1_off2072_inb : ∀ (i : grid1.Coords) (v2766 : BitVec 32) (v2768 : BitVec 32) (k1_hw16 : k1_chk16 i v2766 v2768) (k1_t151 : Fin (k1_t151_loop v2766 v2768).trips) (k1_t152 : Fin (k1_t152_loop v2766 v2768 k1_t151).trips), ∀ a, (k1_off2072 v2766 v2768 k1_t151 k1_t152) a + S1x16.size a ≤ S72x256.size a := fun i v2766 v2768 k1_hw16 k1_t151 k1_t152 => k1_hw16.1.2.2.2.2.2.2.2.2.2.2.2.2.2.2.2.2.2.1 k1_t151 k1_t152
theorem k1_off2073_inb : ∀ (i : grid1.Coords) (v2766 : BitVec 32) (v2768 : BitVec 32) (k1_hw16 : k1_chk16 i v2766 v2768) (k1_t151 : Fin (k1_t151_loop v2766 v2768).trips) (k1_t152 : Fin (k1_t152_loop v2766 v2768 k1_t151).trips), ∀ a, (k1_off2073 v2766 v2768 k1_t151 k1_t152) a + S1x16.size a ≤ S72x256.size a := fun i v2766 v2768 k1_hw16 k1_t151 k1_t152 => k1_hw16.1.2.2.2.2.2.2.2.2.2.2.2.2.2.2.2.2.2.2.1 k1_t151 k1_t152
theorem k1_off2074_inb : ∀ (i : grid1.Coords) (v2766 : BitVec 32) (v2768 : BitVec 32) (k1_hw16 : k1_chk16 i v2766 v2768) (k1_t151 : Fin (k1_t151_loop v2766 v2768).trips) (k1_t152 : Fin (k1_t152_loop v2766 v2768 k1_t151).trips), ∀ a, (k1_off2074 v2766 v2768 k1_t151 k1_t152) a + S1x16.size a ≤ S72x256.size a := fun i v2766 v2768 k1_hw16 k1_t151 k1_t152 => k1_hw16.1.2.2.2.2.2.2.2.2.2.2.2.2.2.2.2.2.2.2.2.1 k1_t151 k1_t152
theorem k1_off2075_inb : ∀ (i : grid1.Coords) (v2766 : BitVec 32) (v2768 : BitVec 32) (k1_hw16 : k1_chk16 i v2766 v2768) (k1_t151 : Fin (k1_t151_loop v2766 v2768).trips) (k1_t152 : Fin (k1_t152_loop v2766 v2768 k1_t151).trips), ∀ a, (k1_off2075 v2766 v2768 k1_t151 k1_t152) a + S1x16.size a ≤ S72x256.size a := fun i v2766 v2768 k1_hw16 k1_t151 k1_t152 => k1_hw16.1.2.2.2.2.2.2.2.2.2.2.2.2.2.2.2.2.2.2.2.2.1 k1_t151 k1_t152
theorem k1_t153_ok : ∀ (i : grid1.Coords) (v2766 : BitVec 32) (v2768 : BitVec 32) (k1_hw16 : k1_chk16 i v2766 v2768) (k1_t151 : Fin (k1_t151_loop v2766 v2768).trips), (k1_t153_loop v2766 v2768 k1_t151).OK := fun i v2766 v2768 k1_hw16 k1_t151 => k1_hw16.1.2.2.2.2.2.2.2.2.2.2.2.2.2.2.2.2.2.2.2.2.2.1 k1_t151
theorem k1_off2076_inb : ∀ (i : grid1.Coords) (v2766 : BitVec 32) (v2768 : BitVec 32) (k1_hw16 : k1_chk16 i v2766 v2768) (k1_t151 : Fin (k1_t151_loop v2766 v2768).trips) (k1_t153 : Fin (k1_t153_loop v2766 v2768 k1_t151).trips), ∀ a, (k1_off2076 v2766 v2768 k1_t151 k1_t153) a + S1x16.size a ≤ S72x256.size a := fun i v2766 v2768 k1_hw16 k1_t151 k1_t153 => k1_hw16.1.2.2.2.2.2.2.2.2.2.2.2.2.2.2.2.2.2.2.2.2.2.2.1 k1_t151 k1_t153
theorem k1_off2077_inb : ∀ (i : grid1.Coords) (v2766 : BitVec 32) (v2768 : BitVec 32) (k1_hw16 : k1_chk16 i v2766 v2768) (k1_t151 : Fin (k1_t151_loop v2766 v2768).trips) (k1_t153 : Fin (k1_t153_loop v2766 v2768 k1_t151).trips), ∀ a, (k1_off2077 v2766 v2768 k1_t151 k1_t153) a + S1x16.size a ≤ S72x256.size a := fun i v2766 v2768 k1_hw16 k1_t151 k1_t153 => k1_hw16.1.2.2.2.2.2.2.2.2.2.2.2.2.2.2.2.2.2.2.2.2.2.2.2.1 k1_t151 k1_t153
theorem k1_off2078_inb : ∀ (i : grid1.Coords) (v2766 : BitVec 32) (v2768 : BitVec 32) (k1_hw16 : k1_chk16 i v2766 v2768) (k1_t151 : Fin (k1_t151_loop v2766 v2768).trips) (k1_t153 : Fin (k1_t153_loop v2766 v2768 k1_t151).trips), ∀ a, (k1_off2078 v2766 v2768 k1_t151 k1_t153) a + S1x16.size a ≤ S72x256.size a := fun i v2766 v2768 k1_hw16 k1_t151 k1_t153 => k1_hw16.1.2.2.2.2.2.2.2.2.2.2.2.2.2.2.2.2.2.2.2.2.2.2.2.2.1 k1_t151 k1_t153
theorem k1_off2079_inb : ∀ (i : grid1.Coords) (v2766 : BitVec 32) (v2768 : BitVec 32) (k1_hw16 : k1_chk16 i v2766 v2768) (k1_t151 : Fin (k1_t151_loop v2766 v2768).trips) (k1_t153 : Fin (k1_t153_loop v2766 v2768 k1_t151).trips), ∀ a, (k1_off2079 v2766 v2768 k1_t151 k1_t153) a + S1x16.size a ≤ S72x256.size a := fun i v2766 v2768 k1_hw16 k1_t151 k1_t153 => k1_hw16.1.2.2.2.2.2.2.2.2.2.2.2.2.2.2.2.2.2.2.2.2.2.2.2.2.2.1 k1_t151 k1_t153
theorem k1_off2080_inb : ∀ (i : grid1.Coords) (v2766 : BitVec 32) (v2768 : BitVec 32) (k1_hw16 : k1_chk16 i v2766 v2768) (k1_t151 : Fin (k1_t151_loop v2766 v2768).trips) (k1_t153 : Fin (k1_t153_loop v2766 v2768 k1_t151).trips), ∀ a, (k1_off2080 v2766 v2768 k1_t151 k1_t153) a + S1x16.size a ≤ S72x256.size a := fun i v2766 v2768 k1_hw16 k1_t151 k1_t153 => k1_hw16.1.2.2.2.2.2.2.2.2.2.2.2.2.2.2.2.2.2.2.2.2.2.2.2.2.2.2.1 k1_t151 k1_t153
theorem k1_off2081_inb : ∀ (i : grid1.Coords) (v2766 : BitVec 32) (v2768 : BitVec 32) (k1_hw16 : k1_chk16 i v2766 v2768) (k1_t151 : Fin (k1_t151_loop v2766 v2768).trips) (k1_t153 : Fin (k1_t153_loop v2766 v2768 k1_t151).trips), ∀ a, (k1_off2081 v2766 v2768 k1_t151 k1_t153) a + S1x16.size a ≤ S72x256.size a := fun i v2766 v2768 k1_hw16 k1_t151 k1_t153 => k1_hw16.1.2.2.2.2.2.2.2.2.2.2.2.2.2.2.2.2.2.2.2.2.2.2.2.2.2.2.2.1 k1_t151 k1_t153
theorem k1_off2082_inb : ∀ (i : grid1.Coords) (v2766 : BitVec 32) (v2768 : BitVec 32) (k1_hw16 : k1_chk16 i v2766 v2768) (k1_t151 : Fin (k1_t151_loop v2766 v2768).trips) (k1_t153 : Fin (k1_t153_loop v2766 v2768 k1_t151).trips), ∀ a, (k1_off2082 v2766 v2768 k1_t151 k1_t153) a + S1x16.size a ≤ S72x256.size a := fun i v2766 v2768 k1_hw16 k1_t151 k1_t153 => k1_hw16.1.2.2.2.2.2.2.2.2.2.2.2.2.2.2.2.2.2.2.2.2.2.2.2.2.2.2.2.2.1 k1_t151 k1_t153
theorem k1_off2083_inb : ∀ (i : grid1.Coords) (v2766 : BitVec 32) (v2768 : BitVec 32) (k1_hw16 : k1_chk16 i v2766 v2768) (k1_t151 : Fin (k1_t151_loop v2766 v2768).trips) (k1_t153 : Fin (k1_t153_loop v2766 v2768 k1_t151).trips), ∀ a, (k1_off2083 v2766 v2768 k1_t151 k1_t153) a + S1x16.size a ≤ S72x256.size a := fun i v2766 v2768 k1_hw16 k1_t151 k1_t153 => k1_hw16.1.2.2.2.2.2.2.2.2.2.2.2.2.2.2.2.2.2.2.2.2.2.2.2.2.2.2.2.2.2.1 k1_t151 k1_t153
theorem k1_off2084_inb : ∀ (i : grid1.Coords) (v2766 : BitVec 32) (v2768 : BitVec 32) (k1_hw16 : k1_chk16 i v2766 v2768) (k1_t151 : Fin (k1_t151_loop v2766 v2768).trips) (k1_t153 : Fin (k1_t153_loop v2766 v2768 k1_t151).trips), ∀ a, (k1_off2084 v2766 v2768 k1_t151 k1_t153) a + S1x16.size a ≤ S72x256.size a := fun i v2766 v2768 k1_hw16 k1_t151 k1_t153 => k1_hw16.1.2.2.2.2.2.2.2.2.2.2.2.2.2.2.2.2.2.2.2.2.2.2.2.2.2.2.2.2.2.2.1 k1_t151 k1_t153
theorem k1_off2085_inb : ∀ (i : grid1.Coords) (v2766 : BitVec 32) (v2768 : BitVec 32) (k1_hw16 : k1_chk16 i v2766 v2768) (k1_t151 : Fin (k1_t151_loop v2766 v2768).trips) (k1_t153 : Fin (k1_t153_loop v2766 v2768 k1_t151).trips), ∀ a, (k1_off2085 v2766 v2768 k1_t151 k1_t153) a + S1x16.size a ≤ S72x256.size a := fun i v2766 v2768 k1_hw16 k1_t151 k1_t153 => k1_hw16.1.2.2.2.2.2.2.2.2.2.2.2.2.2.2.2.2.2.2.2.2.2.2.2.2.2.2.2.2.2.2.2 k1_t151 k1_t153
theorem k1_off2086_inb : ∀ (i : grid1.Coords) (v2766 : BitVec 32) (v2768 : BitVec 32) (k1_hw16 : k1_chk16 i v2766 v2768) (k1_t151 : Fin (k1_t151_loop v2766 v2768).trips) (k1_t153 : Fin (k1_t153_loop v2766 v2768 k1_t151).trips), ∀ a, (k1_off2086 v2766 v2768 k1_t151 k1_t153) a + S1x16.size a ≤ S72x256.size a := fun i v2766 v2768 k1_hw16 k1_t151 k1_t153 => k1_hw16.2.1.1 k1_t151 k1_t153
theorem k1_off2087_inb : ∀ (i : grid1.Coords) (v2766 : BitVec 32) (v2768 : BitVec 32) (k1_hw16 : k1_chk16 i v2766 v2768) (k1_t151 : Fin (k1_t151_loop v2766 v2768).trips) (k1_t153 : Fin (k1_t153_loop v2766 v2768 k1_t151).trips), ∀ a, (k1_off2087 v2766 v2768 k1_t151 k1_t153) a + S1x16.size a ≤ S72x256.size a := fun i v2766 v2768 k1_hw16 k1_t151 k1_t153 => k1_hw16.2.1.2.1 k1_t151 k1_t153
theorem k1_off2088_inb : ∀ (i : grid1.Coords) (v2766 : BitVec 32) (v2768 : BitVec 32) (k1_hw16 : k1_chk16 i v2766 v2768) (k1_t151 : Fin (k1_t151_loop v2766 v2768).trips) (k1_t153 : Fin (k1_t153_loop v2766 v2768 k1_t151).trips), ∀ a, (k1_off2088 v2766 v2768 k1_t151 k1_t153) a + S1x16.size a ≤ S72x256.size a := fun i v2766 v2768 k1_hw16 k1_t151 k1_t153 => k1_hw16.2.1.2.2.1 k1_t151 k1_t153
theorem k1_off2089_inb : ∀ (i : grid1.Coords) (v2766 : BitVec 32) (v2768 : BitVec 32) (k1_hw16 : k1_chk16 i v2766 v2768) (k1_t151 : Fin (k1_t151_loop v2766 v2768).trips) (k1_t153 : Fin (k1_t153_loop v2766 v2768 k1_t151).trips), ∀ a, (k1_off2089 v2766 v2768 k1_t151 k1_t153) a + S1x16.size a ≤ S72x256.size a := fun i v2766 v2768 k1_hw16 k1_t151 k1_t153 => k1_hw16.2.1.2.2.2.1 k1_t151 k1_t153
theorem k1_off2090_inb : ∀ (i : grid1.Coords) (v2766 : BitVec 32) (v2768 : BitVec 32) (k1_hw16 : k1_chk16 i v2766 v2768) (k1_t151 : Fin (k1_t151_loop v2766 v2768).trips) (k1_t153 : Fin (k1_t153_loop v2766 v2768 k1_t151).trips), ∀ a, (k1_off2090 v2766 v2768 k1_t151 k1_t153) a + S1x16.size a ≤ S72x256.size a := fun i v2766 v2768 k1_hw16 k1_t151 k1_t153 => k1_hw16.2.1.2.2.2.2.1 k1_t151 k1_t153
theorem k1_off2091_inb : ∀ (i : grid1.Coords) (v2766 : BitVec 32) (v2768 : BitVec 32) (k1_hw16 : k1_chk16 i v2766 v2768) (k1_t151 : Fin (k1_t151_loop v2766 v2768).trips) (k1_t153 : Fin (k1_t153_loop v2766 v2768 k1_t151).trips), ∀ a, (k1_off2091 v2766 v2768 k1_t151 k1_t153) a + S1x16.size a ≤ S72x256.size a := fun i v2766 v2768 k1_hw16 k1_t151 k1_t153 => k1_hw16.2.1.2.2.2.2.2.1 k1_t151 k1_t153
theorem k1_off2092_inb : ∀ (i : grid1.Coords) (v2766 : BitVec 32) (v2768 : BitVec 32) (k1_hw16 : k1_chk16 i v2766 v2768) (k1_t151 : Fin (k1_t151_loop v2766 v2768).trips), ∀ (k1_h139 : k1_cond139 v2766 v2768 k1_t151 = 1#1), ∀ a, (k1_off2092 i v2766 v2768 k1_t151) a + S72x256.size a ≤ S100000x512.size a := fun i v2766 v2768 k1_hw16 k1_t151 k1_h139 => k1_hw16.2.1.2.2.2.2.2.2.1 k1_t151 k1_h139
theorem k1_off2093_inb : ∀ (i : grid1.Coords) (v2766 : BitVec 32) (v2768 : BitVec 32) (k1_hw16 : k1_chk16 i v2766 v2768) (k1_t151 : Fin (k1_t151_loop v2766 v2768).trips), ∀ (k1_h139 : k1_cond139 v2766 v2768 k1_t151 = 1#1), ∀ (k1_h140 : k1_cond140 v2766 v2768 k1_t151 = 1#1), ∀ a, (k1_off2093 i v2766 v2768 k1_t151) a + S72x256.size a ≤ S100000x512.size a := fun i v2766 v2768 k1_hw16 k1_t151 k1_h139 k1_h140 => k1_hw16.2.1.2.2.2.2.2.2.2.1 k1_t151 k1_h139 k1_h140
theorem k1_t154_ok : ∀ (i : grid1.Coords) (v2766 : BitVec 32) (v2768 : BitVec 32) (k1_hw16 : k1_chk16 i v2766 v2768) (k1_t151 : Fin (k1_t151_loop v2766 v2768).trips), (k1_t154_loop v2766 v2768 k1_t151).OK := fun i v2766 v2768 k1_hw16 k1_t151 => k1_hw16.2.1.2.2.2.2.2.2.2.2.1 k1_t151
theorem k1_off2094_inb : ∀ (i : grid1.Coords) (v2766 : BitVec 32) (v2768 : BitVec 32) (k1_hw16 : k1_chk16 i v2766 v2768) (k1_t151 : Fin (k1_t151_loop v2766 v2768).trips) (k1_t154 : Fin (k1_t154_loop v2766 v2768 k1_t151).trips), ∀ a, (k1_off2094 v2766 v2768 k1_t151 k1_t154) a + S1x16.size a ≤ S72x256.size a := fun i v2766 v2768 k1_hw16 k1_t151 k1_t154 => k1_hw16.2.1.2.2.2.2.2.2.2.2.2.1 k1_t151 k1_t154
theorem k1_off2095_inb : ∀ (i : grid1.Coords) (v2766 : BitVec 32) (v2768 : BitVec 32) (k1_hw16 : k1_chk16 i v2766 v2768) (k1_t151 : Fin (k1_t151_loop v2766 v2768).trips) (k1_t154 : Fin (k1_t154_loop v2766 v2768 k1_t151).trips), ∀ a, (k1_off2095 v2766 v2768 k1_t151 k1_t154) a + S1x16.size a ≤ S72x256.size a := fun i v2766 v2768 k1_hw16 k1_t151 k1_t154 => k1_hw16.2.1.2.2.2.2.2.2.2.2.2.2.1 k1_t151 k1_t154
theorem k1_off2096_inb : ∀ (i : grid1.Coords) (v2766 : BitVec 32) (v2768 : BitVec 32) (k1_hw16 : k1_chk16 i v2766 v2768) (k1_t151 : Fin (k1_t151_loop v2766 v2768).trips) (k1_t154 : Fin (k1_t154_loop v2766 v2768 k1_t151).trips), ∀ a, (k1_off2096 v2766 v2768 k1_t151 k1_t154) a + S1x16.size a ≤ S72x256.size a := fun i v2766 v2768 k1_hw16 k1_t151 k1_t154 => k1_hw16.2.1.2.2.2.2.2.2.2.2.2.2.2.1 k1_t151 k1_t154
theorem k1_off2097_inb : ∀ (i : grid1.Coords) (v2766 : BitVec 32) (v2768 : BitVec 32) (k1_hw16 : k1_chk16 i v2766 v2768) (k1_t151 : Fin (k1_t151_loop v2766 v2768).trips) (k1_t154 : Fin (k1_t154_loop v2766 v2768 k1_t151).trips), ∀ a, (k1_off2097 v2766 v2768 k1_t151 k1_t154) a + S1x16.size a ≤ S72x256.size a := fun i v2766 v2768 k1_hw16 k1_t151 k1_t154 => k1_hw16.2.1.2.2.2.2.2.2.2.2.2.2.2.2.1 k1_t151 k1_t154
theorem k1_off2098_inb : ∀ (i : grid1.Coords) (v2766 : BitVec 32) (v2768 : BitVec 32) (k1_hw16 : k1_chk16 i v2766 v2768) (k1_t151 : Fin (k1_t151_loop v2766 v2768).trips) (k1_t154 : Fin (k1_t154_loop v2766 v2768 k1_t151).trips), ∀ a, (k1_off2098 v2766 v2768 k1_t151 k1_t154) a + S1x16.size a ≤ S72x256.size a := fun i v2766 v2768 k1_hw16 k1_t151 k1_t154 => k1_hw16.2.1.2.2.2.2.2.2.2.2.2.2.2.2.2.1 k1_t151 k1_t154
theorem k1_off2099_inb : ∀ (i : grid1.Coords) (v2766 : BitVec 32) (v2768 : BitVec 32) (k1_hw16 : k1_chk16 i v2766 v2768) (k1_t151 : Fin (k1_t151_loop v2766 v2768).trips) (k1_t154 : Fin (k1_t154_loop v2766 v2768 k1_t151).trips), ∀ a, (k1_off2099 v2766 v2768 k1_t151 k1_t154) a + S1x16.size a ≤ S72x256.size a := fun i v2766 v2768 k1_hw16 k1_t151 k1_t154 => k1_hw16.2.1.2.2.2.2.2.2.2.2.2.2.2.2.2.2.1 k1_t151 k1_t154
theorem k1_off2100_inb : ∀ (i : grid1.Coords) (v2766 : BitVec 32) (v2768 : BitVec 32) (k1_hw16 : k1_chk16 i v2766 v2768) (k1_t151 : Fin (k1_t151_loop v2766 v2768).trips) (k1_t154 : Fin (k1_t154_loop v2766 v2768 k1_t151).trips), ∀ a, (k1_off2100 v2766 v2768 k1_t151 k1_t154) a + S1x16.size a ≤ S72x256.size a := fun i v2766 v2768 k1_hw16 k1_t151 k1_t154 => k1_hw16.2.1.2.2.2.2.2.2.2.2.2.2.2.2.2.2.2.1 k1_t151 k1_t154
theorem k1_off2101_inb : ∀ (i : grid1.Coords) (v2766 : BitVec 32) (v2768 : BitVec 32) (k1_hw16 : k1_chk16 i v2766 v2768) (k1_t151 : Fin (k1_t151_loop v2766 v2768).trips) (k1_t154 : Fin (k1_t154_loop v2766 v2768 k1_t151).trips), ∀ a, (k1_off2101 v2766 v2768 k1_t151 k1_t154) a + S1x16.size a ≤ S72x256.size a := fun i v2766 v2768 k1_hw16 k1_t151 k1_t154 => k1_hw16.2.1.2.2.2.2.2.2.2.2.2.2.2.2.2.2.2.2.1 k1_t151 k1_t154
theorem k1_off2102_inb : ∀ (i : grid1.Coords) (v2766 : BitVec 32) (v2768 : BitVec 32) (k1_hw16 : k1_chk16 i v2766 v2768) (k1_t151 : Fin (k1_t151_loop v2766 v2768).trips) (k1_t154 : Fin (k1_t154_loop v2766 v2768 k1_t151).trips), ∀ a, (k1_off2102 v2766 v2768 k1_t151 k1_t154) a + S1x16.size a ≤ S72x256.size a := fun i v2766 v2768 k1_hw16 k1_t151 k1_t154 => k1_hw16.2.1.2.2.2.2.2.2.2.2.2.2.2.2.2.2.2.2.2.1 k1_t151 k1_t154
theorem k1_off2103_inb : ∀ (i : grid1.Coords) (v2766 : BitVec 32) (v2768 : BitVec 32) (k1_hw16 : k1_chk16 i v2766 v2768) (k1_t151 : Fin (k1_t151_loop v2766 v2768).trips) (k1_t154 : Fin (k1_t154_loop v2766 v2768 k1_t151).trips), ∀ a, (k1_off2103 v2766 v2768 k1_t151 k1_t154) a + S1x16.size a ≤ S72x256.size a := fun i v2766 v2768 k1_hw16 k1_t151 k1_t154 => k1_hw16.2.1.2.2.2.2.2.2.2.2.2.2.2.2.2.2.2.2.2.2.1 k1_t151 k1_t154
theorem k1_off2104_inb : ∀ (i : grid1.Coords) (v2766 : BitVec 32) (v2768 : BitVec 32) (k1_hw16 : k1_chk16 i v2766 v2768) (k1_t151 : Fin (k1_t151_loop v2766 v2768).trips) (k1_t154 : Fin (k1_t154_loop v2766 v2768 k1_t151).trips), ∀ a, (k1_off2104 v2766 v2768 k1_t151 k1_t154) a + S1x16.size a ≤ S72x256.size a := fun i v2766 v2768 k1_hw16 k1_t151 k1_t154 => k1_hw16.2.1.2.2.2.2.2.2.2.2.2.2.2.2.2.2.2.2.2.2.2.1 k1_t151 k1_t154
theorem k1_off2105_inb : ∀ (i : grid1.Coords) (v2766 : BitVec 32) (v2768 : BitVec 32) (k1_hw16 : k1_chk16 i v2766 v2768) (k1_t151 : Fin (k1_t151_loop v2766 v2768).trips) (k1_t154 : Fin (k1_t154_loop v2766 v2768 k1_t151).trips), ∀ a, (k1_off2105 v2766 v2768 k1_t151 k1_t154) a + S1x16.size a ≤ S72x256.size a := fun i v2766 v2768 k1_hw16 k1_t151 k1_t154 => k1_hw16.2.1.2.2.2.2.2.2.2.2.2.2.2.2.2.2.2.2.2.2.2.2.1 k1_t151 k1_t154
theorem k1_off2106_inb : ∀ (i : grid1.Coords) (v2766 : BitVec 32) (v2768 : BitVec 32) (k1_hw16 : k1_chk16 i v2766 v2768) (k1_t151 : Fin (k1_t151_loop v2766 v2768).trips) (k1_t154 : Fin (k1_t154_loop v2766 v2768 k1_t151).trips), ∀ a, (k1_off2106 v2766 v2768 k1_t151 k1_t154) a + S1x16.size a ≤ S72x256.size a := fun i v2766 v2768 k1_hw16 k1_t151 k1_t154 => k1_hw16.2.1.2.2.2.2.2.2.2.2.2.2.2.2.2.2.2.2.2.2.2.2.2.1 k1_t151 k1_t154
theorem k1_off2107_inb : ∀ (i : grid1.Coords) (v2766 : BitVec 32) (v2768 : BitVec 32) (k1_hw16 : k1_chk16 i v2766 v2768) (k1_t151 : Fin (k1_t151_loop v2766 v2768).trips) (k1_t154 : Fin (k1_t154_loop v2766 v2768 k1_t151).trips), ∀ a, (k1_off2107 v2766 v2768 k1_t151 k1_t154) a + S1x16.size a ≤ S72x256.size a := fun i v2766 v2768 k1_hw16 k1_t151 k1_t154 => k1_hw16.2.1.2.2.2.2.2.2.2.2.2.2.2.2.2.2.2.2.2.2.2.2.2.2.1 k1_t151 k1_t154
theorem k1_off2108_inb : ∀ (i : grid1.Coords) (v2766 : BitVec 32) (v2768 : BitVec 32) (k1_hw16 : k1_chk16 i v2766 v2768) (k1_t151 : Fin (k1_t151_loop v2766 v2768).trips) (k1_t154 : Fin (k1_t154_loop v2766 v2768 k1_t151).trips), ∀ a, (k1_off2108 v2766 v2768 k1_t151 k1_t154) a + S1x16.size a ≤ S72x256.size a := fun i v2766 v2768 k1_hw16 k1_t151 k1_t154 => k1_hw16.2.1.2.2.2.2.2.2.2.2.2.2.2.2.2.2.2.2.2.2.2.2.2.2.2.1 k1_t151 k1_t154
theorem k1_off2109_inb : ∀ (i : grid1.Coords) (v2766 : BitVec 32) (v2768 : BitVec 32) (k1_hw16 : k1_chk16 i v2766 v2768) (k1_t151 : Fin (k1_t151_loop v2766 v2768).trips) (k1_t154 : Fin (k1_t154_loop v2766 v2768 k1_t151).trips), ∀ a, (k1_off2109 v2766 v2768 k1_t151 k1_t154) a + S1x16.size a ≤ S72x256.size a := fun i v2766 v2768 k1_hw16 k1_t151 k1_t154 => k1_hw16.2.1.2.2.2.2.2.2.2.2.2.2.2.2.2.2.2.2.2.2.2.2.2.2.2.2.1 k1_t151 k1_t154
theorem k1_t155_ok : ∀ (i : grid1.Coords) (v2766 : BitVec 32) (v2768 : BitVec 32) (k1_hw16 : k1_chk16 i v2766 v2768) (k1_t151 : Fin (k1_t151_loop v2766 v2768).trips), (k1_t155_loop v2766 v2768 k1_t151).OK := fun i v2766 v2768 k1_hw16 k1_t151 => k1_hw16.2.1.2.2.2.2.2.2.2.2.2.2.2.2.2.2.2.2.2.2.2.2.2.2.2.2.2.1 k1_t151
theorem k1_off2110_inb : ∀ (i : grid1.Coords) (v2766 : BitVec 32) (v2768 : BitVec 32) (k1_hw16 : k1_chk16 i v2766 v2768) (k1_t151 : Fin (k1_t151_loop v2766 v2768).trips) (k1_t155 : Fin (k1_t155_loop v2766 v2768 k1_t151).trips), ∀ a, (k1_off2110 v2766 v2768 k1_t151 k1_t155) a + S1x16.size a ≤ S72x256.size a := fun i v2766 v2768 k1_hw16 k1_t151 k1_t155 => k1_hw16.2.1.2.2.2.2.2.2.2.2.2.2.2.2.2.2.2.2.2.2.2.2.2.2.2.2.2.2.1 k1_t151 k1_t155
theorem k1_off2111_inb : ∀ (i : grid1.Coords) (v2766 : BitVec 32) (v2768 : BitVec 32) (k1_hw16 : k1_chk16 i v2766 v2768) (k1_t151 : Fin (k1_t151_loop v2766 v2768).trips) (k1_t155 : Fin (k1_t155_loop v2766 v2768 k1_t151).trips), ∀ a, (k1_off2111 v2766 v2768 k1_t151 k1_t155) a + S1x16.size a ≤ S72x256.size a := fun i v2766 v2768 k1_hw16 k1_t151 k1_t155 => k1_hw16.2.1.2.2.2.2.2.2.2.2.2.2.2.2.2.2.2.2.2.2.2.2.2.2.2.2.2.2.2.1 k1_t151 k1_t155
theorem k1_off2112_inb : ∀ (i : grid1.Coords) (v2766 : BitVec 32) (v2768 : BitVec 32) (k1_hw16 : k1_chk16 i v2766 v2768) (k1_t151 : Fin (k1_t151_loop v2766 v2768).trips) (k1_t155 : Fin (k1_t155_loop v2766 v2768 k1_t151).trips), ∀ a, (k1_off2112 v2766 v2768 k1_t151 k1_t155) a + S1x16.size a ≤ S72x256.size a := fun i v2766 v2768 k1_hw16 k1_t151 k1_t155 => k1_hw16.2.1.2.2.2.2.2.2.2.2.2.2.2.2.2.2.2.2.2.2.2.2.2.2.2.2.2.2.2.2.1 k1_t151 k1_t155
theorem k1_off2113_inb : ∀ (i : grid1.Coords) (v2766 : BitVec 32) (v2768 : BitVec 32) (k1_hw16 : k1_chk16 i v2766 v2768) (k1_t151 : Fin (k1_t151_loop v2766 v2768).trips) (k1_t155 : Fin (k1_t155_loop v2766 v2768 k1_t151).trips), ∀ a, (k1_off2113 v2766 v2768 k1_t151 k1_t155) a + S1x16.size a ≤ S72x256.size a := fun i v2766 v2768 k1_hw16 k1_t151 k1_t155 => k1_hw16.2.1.2.2.2.2.2.2.2.2.2.2.2.2.2.2.2.2.2.2.2.2.2.2.2.2.2.2.2.2.2.1 k1_t151 k1_t155
theorem k1_off2114_inb : ∀ (i : grid1.Coords) (v2766 : BitVec 32) (v2768 : BitVec 32) (k1_hw16 : k1_chk16 i v2766 v2768) (k1_t151 : Fin (k1_t151_loop v2766 v2768).trips) (k1_t155 : Fin (k1_t155_loop v2766 v2768 k1_t151).trips), ∀ a, (k1_off2114 v2766 v2768 k1_t151 k1_t155) a + S1x16.size a ≤ S72x256.size a := fun i v2766 v2768 k1_hw16 k1_t151 k1_t155 => k1_hw16.2.1.2.2.2.2.2.2.2.2.2.2.2.2.2.2.2.2.2.2.2.2.2.2.2.2.2.2.2.2.2.2.1 k1_t151 k1_t155
theorem k1_off2115_inb : ∀ (i : grid1.Coords) (v2766 : BitVec 32) (v2768 : BitVec 32) (k1_hw16 : k1_chk16 i v2766 v2768) (k1_t151 : Fin (k1_t151_loop v2766 v2768).trips) (k1_t155 : Fin (k1_t155_loop v2766 v2768 k1_t151).trips), ∀ a, (k1_off2115 v2766 v2768 k1_t151 k1_t155) a + S1x16.size a ≤ S72x256.size a := fun i v2766 v2768 k1_hw16 k1_t151 k1_t155 => k1_hw16.2.1.2.2.2.2.2.2.2.2.2.2.2.2.2.2.2.2.2.2.2.2.2.2.2.2.2.2.2.2.2.2.2 k1_t151 k1_t155
theorem k1_off2116_inb : ∀ (i : grid1.Coords) (v2766 : BitVec 32) (v2768 : BitVec 32) (k1_hw16 : k1_chk16 i v2766 v2768) (k1_t151 : Fin (k1_t151_loop v2766 v2768).trips) (k1_t155 : Fin (k1_t155_loop v2766 v2768 k1_t151).trips), ∀ a, (k1_off2116 v2766 v2768 k1_t151 k1_t155) a + S1x16.size a ≤ S72x256.size a := fun i v2766 v2768 k1_hw16 k1_t151 k1_t155 => k1_hw16.2.2.1.1 k1_t151 k1_t155
theorem k1_off2117_inb : ∀ (i : grid1.Coords) (v2766 : BitVec 32) (v2768 : BitVec 32) (k1_hw16 : k1_chk16 i v2766 v2768) (k1_t151 : Fin (k1_t151_loop v2766 v2768).trips) (k1_t155 : Fin (k1_t155_loop v2766 v2768 k1_t151).trips), ∀ a, (k1_off2117 v2766 v2768 k1_t151 k1_t155) a + S1x16.size a ≤ S72x256.size a := fun i v2766 v2768 k1_hw16 k1_t151 k1_t155 => k1_hw16.2.2.1.2.1 k1_t151 k1_t155
theorem k1_off2118_inb : ∀ (i : grid1.Coords) (v2766 : BitVec 32) (v2768 : BitVec 32) (k1_hw16 : k1_chk16 i v2766 v2768) (k1_t151 : Fin (k1_t151_loop v2766 v2768).trips) (k1_t155 : Fin (k1_t155_loop v2766 v2768 k1_t151).trips), ∀ a, (k1_off2118 v2766 v2768 k1_t151 k1_t155) a + S1x16.size a ≤ S72x256.size a := fun i v2766 v2768 k1_hw16 k1_t151 k1_t155 => k1_hw16.2.2.1.2.2.1 k1_t151 k1_t155
theorem k1_off2119_inb : ∀ (i : grid1.Coords) (v2766 : BitVec 32) (v2768 : BitVec 32) (k1_hw16 : k1_chk16 i v2766 v2768) (k1_t151 : Fin (k1_t151_loop v2766 v2768).trips) (k1_t155 : Fin (k1_t155_loop v2766 v2768 k1_t151).trips), ∀ a, (k1_off2119 v2766 v2768 k1_t151 k1_t155) a + S1x16.size a ≤ S72x256.size a := fun i v2766 v2768 k1_hw16 k1_t151 k1_t155 => k1_hw16.2.2.1.2.2.2.1 k1_t151 k1_t155
theorem k1_off2120_inb : ∀ (i : grid1.Coords) (v2766 : BitVec 32) (v2768 : BitVec 32) (k1_hw16 : k1_chk16 i v2766 v2768) (k1_t151 : Fin (k1_t151_loop v2766 v2768).trips) (k1_t155 : Fin (k1_t155_loop v2766 v2768 k1_t151).trips), ∀ a, (k1_off2120 v2766 v2768 k1_t151 k1_t155) a + S1x16.size a ≤ S72x256.size a := fun i v2766 v2768 k1_hw16 k1_t151 k1_t155 => k1_hw16.2.2.1.2.2.2.2.1 k1_t151 k1_t155
theorem k1_off2121_inb : ∀ (i : grid1.Coords) (v2766 : BitVec 32) (v2768 : BitVec 32) (k1_hw16 : k1_chk16 i v2766 v2768) (k1_t151 : Fin (k1_t151_loop v2766 v2768).trips) (k1_t155 : Fin (k1_t155_loop v2766 v2768 k1_t151).trips), ∀ a, (k1_off2121 v2766 v2768 k1_t151 k1_t155) a + S1x16.size a ≤ S72x256.size a := fun i v2766 v2768 k1_hw16 k1_t151 k1_t155 => k1_hw16.2.2.1.2.2.2.2.2.1 k1_t151 k1_t155
theorem k1_off2122_inb : ∀ (i : grid1.Coords) (v2766 : BitVec 32) (v2768 : BitVec 32) (k1_hw16 : k1_chk16 i v2766 v2768) (k1_t151 : Fin (k1_t151_loop v2766 v2768).trips) (k1_t155 : Fin (k1_t155_loop v2766 v2768 k1_t151).trips), ∀ a, (k1_off2122 v2766 v2768 k1_t151 k1_t155) a + S1x16.size a ≤ S72x256.size a := fun i v2766 v2768 k1_hw16 k1_t151 k1_t155 => k1_hw16.2.2.1.2.2.2.2.2.2.1 k1_t151 k1_t155
theorem k1_off2123_inb : ∀ (i : grid1.Coords) (v2766 : BitVec 32) (v2768 : BitVec 32) (k1_hw16 : k1_chk16 i v2766 v2768) (k1_t151 : Fin (k1_t151_loop v2766 v2768).trips) (k1_t155 : Fin (k1_t155_loop v2766 v2768 k1_t151).trips), ∀ a, (k1_off2123 v2766 v2768 k1_t151 k1_t155) a + S1x16.size a ≤ S72x256.size a := fun i v2766 v2768 k1_hw16 k1_t151 k1_t155 => k1_hw16.2.2.1.2.2.2.2.2.2.2.1 k1_t151 k1_t155
theorem k1_off2124_inb : ∀ (i : grid1.Coords) (v2766 : BitVec 32) (v2768 : BitVec 32) (k1_hw16 : k1_chk16 i v2766 v2768) (k1_t151 : Fin (k1_t151_loop v2766 v2768).trips) (k1_t155 : Fin (k1_t155_loop v2766 v2768 k1_t151).trips), ∀ a, (k1_off2124 v2766 v2768 k1_t151 k1_t155) a + S1x16.size a ≤ S72x256.size a := fun i v2766 v2768 k1_hw16 k1_t151 k1_t155 => k1_hw16.2.2.1.2.2.2.2.2.2.2.2.1 k1_t151 k1_t155
theorem k1_off2125_inb : ∀ (i : grid1.Coords) (v2766 : BitVec 32) (v2768 : BitVec 32) (k1_hw16 : k1_chk16 i v2766 v2768) (k1_t151 : Fin (k1_t151_loop v2766 v2768).trips) (k1_t155 : Fin (k1_t155_loop v2766 v2768 k1_t151).trips), ∀ a, (k1_off2125 v2766 v2768 k1_t151 k1_t155) a + S1x16.size a ≤ S72x256.size a := fun i v2766 v2768 k1_hw16 k1_t151 k1_t155 => k1_hw16.2.2.1.2.2.2.2.2.2.2.2.2.1 k1_t151 k1_t155
theorem k1_t156_ok : ∀ (i : grid1.Coords) (v2766 : BitVec 32) (v2768 : BitVec 32) (k1_hw16 : k1_chk16 i v2766 v2768), (k1_t156_loop v2766 v2768).OK := fun i v2766 v2768 k1_hw16 => k1_hw16.2.2.1.2.2.2.2.2.2.2.2.2.2.1
theorem k1_off2126_inb : ∀ (i : grid1.Coords) (v2766 : BitVec 32) (v2768 : BitVec 32) (k1_hw16 : k1_chk16 i v2766 v2768) (k1_t156 : Fin (k1_t156_loop v2766 v2768).trips), ∀ (k1_h141 : k1_cond141 v2766 v2768 k1_t156 = 1#1), ∀ a, (k1_off2126 i v2766 v2768 k1_t156) a + S72x256.size a ≤ S100000x512.size a := fun i v2766 v2768 k1_hw16 k1_t156 k1_h141 => k1_hw16.2.2.1.2.2.2.2.2.2.2.2.2.2.2.1 k1_t156 k1_h141
theorem k1_off2127_inb : ∀ (i : grid1.Coords) (v2766 : BitVec 32) (v2768 : BitVec 32) (k1_hw16 : k1_chk16 i v2766 v2768) (k1_t156 : Fin (k1_t156_loop v2766 v2768).trips), ∀ (k1_h141 : k1_cond141 v2766 v2768 k1_t156 = 1#1), ∀ (k1_h142 : k1_cond142 v2766 v2768 k1_t156 = 1#1), ∀ a, (k1_off2127 i v2766 v2768 k1_t156) a + S72x256.size a ≤ S100000x512.size a := fun i v2766 v2768 k1_hw16 k1_t156 k1_h141 k1_h142 => k1_hw16.2.2.1.2.2.2.2.2.2.2.2.2.2.2.2.1 k1_t156 k1_h141 k1_h142
theorem k1_t157_ok : ∀ (i : grid1.Coords) (v2766 : BitVec 32) (v2768 : BitVec 32) (k1_hw16 : k1_chk16 i v2766 v2768) (k1_t156 : Fin (k1_t156_loop v2766 v2768).trips), (k1_t157_loop v2766 v2768 k1_t156).OK := fun i v2766 v2768 k1_hw16 k1_t156 => k1_hw16.2.2.1.2.2.2.2.2.2.2.2.2.2.2.2.2.1 k1_t156
theorem k1_off2128_inb : ∀ (i : grid1.Coords) (v2766 : BitVec 32) (v2768 : BitVec 32) (k1_hw16 : k1_chk16 i v2766 v2768) (k1_t156 : Fin (k1_t156_loop v2766 v2768).trips) (k1_t157 : Fin (k1_t157_loop v2766 v2768 k1_t156).trips), ∀ a, (k1_off2128 v2766 v2768 k1_t156 k1_t157) a + S1x16.size a ≤ S72x256.size a := fun i v2766 v2768 k1_hw16 k1_t156 k1_t157 => k1_hw16.2.2.1.2.2.2.2.2.2.2.2.2.2.2.2.2.2.1 k1_t156 k1_t157
theorem k1_off2129_inb : ∀ (i : grid1.Coords) (v2766 : BitVec 32) (v2768 : BitVec 32) (k1_hw16 : k1_chk16 i v2766 v2768) (k1_t156 : Fin (k1_t156_loop v2766 v2768).trips) (k1_t157 : Fin (k1_t157_loop v2766 v2768 k1_t156).trips), ∀ a, (k1_off2129 v2766 v2768 k1_t156 k1_t157) a + S1x16.size a ≤ S72x256.size a := fun i v2766 v2768 k1_hw16 k1_t156 k1_t157 => k1_hw16.2.2.1.2.2.2.2.2.2.2.2.2.2.2.2.2.2.2.1 k1_t156 k1_t157
theorem k1_off2130_inb : ∀ (i : grid1.Coords) (v2766 : BitVec 32) (v2768 : BitVec 32) (k1_hw16 : k1_chk16 i v2766 v2768) (k1_t156 : Fin (k1_t156_loop v2766 v2768).trips) (k1_t157 : Fin (k1_t157_loop v2766 v2768 k1_t156).trips), ∀ a, (k1_off2130 v2766 v2768 k1_t156 k1_t157) a + S1x16.size a ≤ S72x256.size a := fun i v2766 v2768 k1_hw16 k1_t156 k1_t157 => k1_hw16.2.2.1.2.2.2.2.2.2.2.2.2.2.2.2.2.2.2.2.1 k1_t156 k1_t157
theorem k1_off2131_inb : ∀ (i : grid1.Coords) (v2766 : BitVec 32) (v2768 : BitVec 32) (k1_hw16 : k1_chk16 i v2766 v2768) (k1_t156 : Fin (k1_t156_loop v2766 v2768).trips) (k1_t157 : Fin (k1_t157_loop v2766 v2768 k1_t156).trips), ∀ a, (k1_off2131 v2766 v2768 k1_t156 k1_t157) a + S1x16.size a ≤ S72x256.size a := fun i v2766 v2768 k1_hw16 k1_t156 k1_t157 => k1_hw16.2.2.1.2.2.2.2.2.2.2.2.2.2.2.2.2.2.2.2.2.1 k1_t156 k1_t157
theorem k1_off2132_inb : ∀ (i : grid1.Coords) (v2766 : BitVec 32) (v2768 : BitVec 32) (k1_hw16 : k1_chk16 i v2766 v2768) (k1_t156 : Fin (k1_t156_loop v2766 v2768).trips) (k1_t157 : Fin (k1_t157_loop v2766 v2768 k1_t156).trips), ∀ a, (k1_off2132 v2766 v2768 k1_t156 k1_t157) a + S1x16.size a ≤ S72x256.size a := fun i v2766 v2768 k1_hw16 k1_t156 k1_t157 => k1_hw16.2.2.1.2.2.2.2.2.2.2.2.2.2.2.2.2.2.2.2.2.2.1 k1_t156 k1_t157
theorem k1_off2133_inb : ∀ (i : grid1.Coords) (v2766 : BitVec 32) (v2768 : BitVec 32) (k1_hw16 : k1_chk16 i v2766 v2768) (k1_t156 : Fin (k1_t156_loop v2766 v2768).trips) (k1_t157 : Fin (k1_t157_loop v2766 v2768 k1_t156).trips), ∀ a, (k1_off2133 v2766 v2768 k1_t156 k1_t157) a + S1x16.size a ≤ S72x256.size a := fun i v2766 v2768 k1_hw16 k1_t156 k1_t157 => k1_hw16.2.2.1.2.2.2.2.2.2.2.2.2.2.2.2.2.2.2.2.2.2.2.1 k1_t156 k1_t157
theorem k1_off2134_inb : ∀ (i : grid1.Coords) (v2766 : BitVec 32) (v2768 : BitVec 32) (k1_hw16 : k1_chk16 i v2766 v2768) (k1_t156 : Fin (k1_t156_loop v2766 v2768).trips) (k1_t157 : Fin (k1_t157_loop v2766 v2768 k1_t156).trips), ∀ a, (k1_off2134 v2766 v2768 k1_t156 k1_t157) a + S1x16.size a ≤ S72x256.size a := fun i v2766 v2768 k1_hw16 k1_t156 k1_t157 => k1_hw16.2.2.1.2.2.2.2.2.2.2.2.2.2.2.2.2.2.2.2.2.2.2.2.1 k1_t156 k1_t157
theorem k1_off2135_inb : ∀ (i : grid1.Coords) (v2766 : BitVec 32) (v2768 : BitVec 32) (k1_hw16 : k1_chk16 i v2766 v2768) (k1_t156 : Fin (k1_t156_loop v2766 v2768).trips) (k1_t157 : Fin (k1_t157_loop v2766 v2768 k1_t156).trips), ∀ a, (k1_off2135 v2766 v2768 k1_t156 k1_t157) a + S1x16.size a ≤ S72x256.size a := fun i v2766 v2768 k1_hw16 k1_t156 k1_t157 => k1_hw16.2.2.1.2.2.2.2.2.2.2.2.2.2.2.2.2.2.2.2.2.2.2.2.2.1 k1_t156 k1_t157
theorem k1_off2136_inb : ∀ (i : grid1.Coords) (v2766 : BitVec 32) (v2768 : BitVec 32) (k1_hw16 : k1_chk16 i v2766 v2768) (k1_t156 : Fin (k1_t156_loop v2766 v2768).trips) (k1_t157 : Fin (k1_t157_loop v2766 v2768 k1_t156).trips), ∀ a, (k1_off2136 v2766 v2768 k1_t156 k1_t157) a + S1x16.size a ≤ S72x256.size a := fun i v2766 v2768 k1_hw16 k1_t156 k1_t157 => k1_hw16.2.2.1.2.2.2.2.2.2.2.2.2.2.2.2.2.2.2.2.2.2.2.2.2.2.1 k1_t156 k1_t157
theorem k1_off2137_inb : ∀ (i : grid1.Coords) (v2766 : BitVec 32) (v2768 : BitVec 32) (k1_hw16 : k1_chk16 i v2766 v2768) (k1_t156 : Fin (k1_t156_loop v2766 v2768).trips) (k1_t157 : Fin (k1_t157_loop v2766 v2768 k1_t156).trips), ∀ a, (k1_off2137 v2766 v2768 k1_t156 k1_t157) a + S1x16.size a ≤ S72x256.size a := fun i v2766 v2768 k1_hw16 k1_t156 k1_t157 => k1_hw16.2.2.1.2.2.2.2.2.2.2.2.2.2.2.2.2.2.2.2.2.2.2.2.2.2.2.1 k1_t156 k1_t157
theorem k1_off2138_inb : ∀ (i : grid1.Coords) (v2766 : BitVec 32) (v2768 : BitVec 32) (k1_hw16 : k1_chk16 i v2766 v2768) (k1_t156 : Fin (k1_t156_loop v2766 v2768).trips) (k1_t157 : Fin (k1_t157_loop v2766 v2768 k1_t156).trips), ∀ a, (k1_off2138 v2766 v2768 k1_t156 k1_t157) a + S1x16.size a ≤ S72x256.size a := fun i v2766 v2768 k1_hw16 k1_t156 k1_t157 => k1_hw16.2.2.1.2.2.2.2.2.2.2.2.2.2.2.2.2.2.2.2.2.2.2.2.2.2.2.2.1 k1_t156 k1_t157
theorem k1_off2139_inb : ∀ (i : grid1.Coords) (v2766 : BitVec 32) (v2768 : BitVec 32) (k1_hw16 : k1_chk16 i v2766 v2768) (k1_t156 : Fin (k1_t156_loop v2766 v2768).trips) (k1_t157 : Fin (k1_t157_loop v2766 v2768 k1_t156).trips), ∀ a, (k1_off2139 v2766 v2768 k1_t156 k1_t157) a + S1x16.size a ≤ S72x256.size a := fun i v2766 v2768 k1_hw16 k1_t156 k1_t157 => k1_hw16.2.2.1.2.2.2.2.2.2.2.2.2.2.2.2.2.2.2.2.2.2.2.2.2.2.2.2.2.1 k1_t156 k1_t157
theorem k1_off2140_inb : ∀ (i : grid1.Coords) (v2766 : BitVec 32) (v2768 : BitVec 32) (k1_hw16 : k1_chk16 i v2766 v2768) (k1_t156 : Fin (k1_t156_loop v2766 v2768).trips) (k1_t157 : Fin (k1_t157_loop v2766 v2768 k1_t156).trips), ∀ a, (k1_off2140 v2766 v2768 k1_t156 k1_t157) a + S1x16.size a ≤ S72x256.size a := fun i v2766 v2768 k1_hw16 k1_t156 k1_t157 => k1_hw16.2.2.1.2.2.2.2.2.2.2.2.2.2.2.2.2.2.2.2.2.2.2.2.2.2.2.2.2.2.1 k1_t156 k1_t157
theorem k1_off2141_inb : ∀ (i : grid1.Coords) (v2766 : BitVec 32) (v2768 : BitVec 32) (k1_hw16 : k1_chk16 i v2766 v2768) (k1_t156 : Fin (k1_t156_loop v2766 v2768).trips) (k1_t157 : Fin (k1_t157_loop v2766 v2768 k1_t156).trips), ∀ a, (k1_off2141 v2766 v2768 k1_t156 k1_t157) a + S1x16.size a ≤ S72x256.size a := fun i v2766 v2768 k1_hw16 k1_t156 k1_t157 => k1_hw16.2.2.1.2.2.2.2.2.2.2.2.2.2.2.2.2.2.2.2.2.2.2.2.2.2.2.2.2.2.2.1 k1_t156 k1_t157
theorem k1_off2142_inb : ∀ (i : grid1.Coords) (v2766 : BitVec 32) (v2768 : BitVec 32) (k1_hw16 : k1_chk16 i v2766 v2768) (k1_t156 : Fin (k1_t156_loop v2766 v2768).trips) (k1_t157 : Fin (k1_t157_loop v2766 v2768 k1_t156).trips), ∀ a, (k1_off2142 v2766 v2768 k1_t156 k1_t157) a + S1x16.size a ≤ S72x256.size a := fun i v2766 v2768 k1_hw16 k1_t156 k1_t157 => k1_hw16.2.2.1.2.2.2.2.2.2.2.2.2.2.2.2.2.2.2.2.2.2.2.2.2.2.2.2.2.2.2.2.1 k1_t156 k1_t157
theorem k1_off2143_inb : ∀ (i : grid1.Coords) (v2766 : BitVec 32) (v2768 : BitVec 32) (k1_hw16 : k1_chk16 i v2766 v2768) (k1_t156 : Fin (k1_t156_loop v2766 v2768).trips) (k1_t157 : Fin (k1_t157_loop v2766 v2768 k1_t156).trips), ∀ a, (k1_off2143 v2766 v2768 k1_t156 k1_t157) a + S1x16.size a ≤ S72x256.size a := fun i v2766 v2768 k1_hw16 k1_t156 k1_t157 => k1_hw16.2.2.1.2.2.2.2.2.2.2.2.2.2.2.2.2.2.2.2.2.2.2.2.2.2.2.2.2.2.2.2.2.1 k1_t156 k1_t157
theorem k1_t158_ok : ∀ (i : grid1.Coords) (v2766 : BitVec 32) (v2768 : BitVec 32) (k1_hw16 : k1_chk16 i v2766 v2768) (k1_t156 : Fin (k1_t156_loop v2766 v2768).trips), (k1_t158_loop v2766 v2768 k1_t156).OK := fun i v2766 v2768 k1_hw16 k1_t156 => k1_hw16.2.2.1.2.2.2.2.2.2.2.2.2.2.2.2.2.2.2.2.2.2.2.2.2.2.2.2.2.2.2.2.2.2.1 k1_t156
theorem k1_off2144_inb : ∀ (i : grid1.Coords) (v2766 : BitVec 32) (v2768 : BitVec 32) (k1_hw16 : k1_chk16 i v2766 v2768) (k1_t156 : Fin (k1_t156_loop v2766 v2768).trips) (k1_t158 : Fin (k1_t158_loop v2766 v2768 k1_t156).trips), ∀ a, (k1_off2144 v2766 v2768 k1_t156 k1_t158) a + S1x16.size a ≤ S72x256.size a := fun i v2766 v2768 k1_hw16 k1_t156 k1_t158 => k1_hw16.2.2.1.2.2.2.2.2.2.2.2.2.2.2.2.2.2.2.2.2.2.2.2.2.2.2.2.2.2.2.2.2.2.2 k1_t156 k1_t158
theorem k1_off2145_inb : ∀ (i : grid1.Coords) (v2766 : BitVec 32) (v2768 : BitVec 32) (k1_hw16 : k1_chk16 i v2766 v2768) (k1_t156 : Fin (k1_t156_loop v2766 v2768).trips) (k1_t158 : Fin (k1_t158_loop v2766 v2768 k1_t156).trips), ∀ a, (k1_off2145 v2766 v2768 k1_t156 k1_t158) a + S1x16.size a ≤ S72x256.size a := fun i v2766 v2768 k1_hw16 k1_t156 k1_t158 => k1_hw16.2.2.2.1.1 k1_t156 k1_t158
theorem k1_off2146_inb : ∀ (i : grid1.Coords) (v2766 : BitVec 32) (v2768 : BitVec 32) (k1_hw16 : k1_chk16 i v2766 v2768) (k1_t156 : Fin (k1_t156_loop v2766 v2768).trips) (k1_t158 : Fin (k1_t158_loop v2766 v2768 k1_t156).trips), ∀ a, (k1_off2146 v2766 v2768 k1_t156 k1_t158) a + S1x16.size a ≤ S72x256.size a := fun i v2766 v2768 k1_hw16 k1_t156 k1_t158 => k1_hw16.2.2.2.1.2.1 k1_t156 k1_t158
theorem k1_off2147_inb : ∀ (i : grid1.Coords) (v2766 : BitVec 32) (v2768 : BitVec 32) (k1_hw16 : k1_chk16 i v2766 v2768) (k1_t156 : Fin (k1_t156_loop v2766 v2768).trips) (k1_t158 : Fin (k1_t158_loop v2766 v2768 k1_t156).trips), ∀ a, (k1_off2147 v2766 v2768 k1_t156 k1_t158) a + S1x16.size a ≤ S72x256.size a := fun i v2766 v2768 k1_hw16 k1_t156 k1_t158 => k1_hw16.2.2.2.1.2.2.1 k1_t156 k1_t158
theorem k1_off2148_inb : ∀ (i : grid1.Coords) (v2766 : BitVec 32) (v2768 : BitVec 32) (k1_hw16 : k1_chk16 i v2766 v2768) (k1_t156 : Fin (k1_t156_loop v2766 v2768).trips) (k1_t158 : Fin (k1_t158_loop v2766 v2768 k1_t156).trips), ∀ a, (k1_off2148 v2766 v2768 k1_t156 k1_t158) a + S1x16.size a ≤ S72x256.size a := fun i v2766 v2768 k1_hw16 k1_t156 k1_t158 => k1_hw16.2.2.2.1.2.2.2.1 k1_t156 k1_t158
theorem k1_off2149_inb : ∀ (i : grid1.Coords) (v2766 : BitVec 32) (v2768 : BitVec 32) (k1_hw16 : k1_chk16 i v2766 v2768) (k1_t156 : Fin (k1_t156_loop v2766 v2768).trips) (k1_t158 : Fin (k1_t158_loop v2766 v2768 k1_t156).trips), ∀ a, (k1_off2149 v2766 v2768 k1_t156 k1_t158) a + S1x16.size a ≤ S72x256.size a := fun i v2766 v2768 k1_hw16 k1_t156 k1_t158 => k1_hw16.2.2.2.1.2.2.2.2.1 k1_t156 k1_t158
theorem k1_off2150_inb : ∀ (i : grid1.Coords) (v2766 : BitVec 32) (v2768 : BitVec 32) (k1_hw16 : k1_chk16 i v2766 v2768) (k1_t156 : Fin (k1_t156_loop v2766 v2768).trips) (k1_t158 : Fin (k1_t158_loop v2766 v2768 k1_t156).trips), ∀ a, (k1_off2150 v2766 v2768 k1_t156 k1_t158) a + S1x16.size a ≤ S72x256.size a := fun i v2766 v2768 k1_hw16 k1_t156 k1_t158 => k1_hw16.2.2.2.1.2.2.2.2.2.1 k1_t156 k1_t158
theorem k1_off2151_inb : ∀ (i : grid1.Coords) (v2766 : BitVec 32) (v2768 : BitVec 32) (k1_hw16 : k1_chk16 i v2766 v2768) (k1_t156 : Fin (k1_t156_loop v2766 v2768).trips) (k1_t158 : Fin (k1_t158_loop v2766 v2768 k1_t156).trips), ∀ a, (k1_off2151 v2766 v2768 k1_t156 k1_t158) a + S1x16.size a ≤ S72x256.size a := fun i v2766 v2768 k1_hw16 k1_t156 k1_t158 => k1_hw16.2.2.2.1.2.2.2.2.2.2.1 k1_t156 k1_t158
theorem k1_off2152_inb : ∀ (i : grid1.Coords) (v2766 : BitVec 32) (v2768 : BitVec 32) (k1_hw16 : k1_chk16 i v2766 v2768) (k1_t156 : Fin (k1_t156_loop v2766 v2768).trips) (k1_t158 : Fin (k1_t158_loop v2766 v2768 k1_t156).trips), ∀ a, (k1_off2152 v2766 v2768 k1_t156 k1_t158) a + S1x16.size a ≤ S72x256.size a := fun i v2766 v2768 k1_hw16 k1_t156 k1_t158 => k1_hw16.2.2.2.1.2.2.2.2.2.2.2.1 k1_t156 k1_t158
theorem k1_off2153_inb : ∀ (i : grid1.Coords) (v2766 : BitVec 32) (v2768 : BitVec 32) (k1_hw16 : k1_chk16 i v2766 v2768) (k1_t156 : Fin (k1_t156_loop v2766 v2768).trips) (k1_t158 : Fin (k1_t158_loop v2766 v2768 k1_t156).trips), ∀ a, (k1_off2153 v2766 v2768 k1_t156 k1_t158) a + S1x16.size a ≤ S72x256.size a := fun i v2766 v2768 k1_hw16 k1_t156 k1_t158 => k1_hw16.2.2.2.1.2.2.2.2.2.2.2.2.1 k1_t156 k1_t158
theorem k1_off2154_inb : ∀ (i : grid1.Coords) (v2766 : BitVec 32) (v2768 : BitVec 32) (k1_hw16 : k1_chk16 i v2766 v2768) (k1_t156 : Fin (k1_t156_loop v2766 v2768).trips) (k1_t158 : Fin (k1_t158_loop v2766 v2768 k1_t156).trips), ∀ a, (k1_off2154 v2766 v2768 k1_t156 k1_t158) a + S1x16.size a ≤ S72x256.size a := fun i v2766 v2768 k1_hw16 k1_t156 k1_t158 => k1_hw16.2.2.2.1.2.2.2.2.2.2.2.2.2.1 k1_t156 k1_t158
theorem k1_off2155_inb : ∀ (i : grid1.Coords) (v2766 : BitVec 32) (v2768 : BitVec 32) (k1_hw16 : k1_chk16 i v2766 v2768) (k1_t156 : Fin (k1_t156_loop v2766 v2768).trips) (k1_t158 : Fin (k1_t158_loop v2766 v2768 k1_t156).trips), ∀ a, (k1_off2155 v2766 v2768 k1_t156 k1_t158) a + S1x16.size a ≤ S72x256.size a := fun i v2766 v2768 k1_hw16 k1_t156 k1_t158 => k1_hw16.2.2.2.1.2.2.2.2.2.2.2.2.2.2.1 k1_t156 k1_t158
theorem k1_off2156_inb : ∀ (i : grid1.Coords) (v2766 : BitVec 32) (v2768 : BitVec 32) (k1_hw16 : k1_chk16 i v2766 v2768) (k1_t156 : Fin (k1_t156_loop v2766 v2768).trips) (k1_t158 : Fin (k1_t158_loop v2766 v2768 k1_t156).trips), ∀ a, (k1_off2156 v2766 v2768 k1_t156 k1_t158) a + S1x16.size a ≤ S72x256.size a := fun i v2766 v2768 k1_hw16 k1_t156 k1_t158 => k1_hw16.2.2.2.1.2.2.2.2.2.2.2.2.2.2.2.1 k1_t156 k1_t158
theorem k1_off2157_inb : ∀ (i : grid1.Coords) (v2766 : BitVec 32) (v2768 : BitVec 32) (k1_hw16 : k1_chk16 i v2766 v2768) (k1_t156 : Fin (k1_t156_loop v2766 v2768).trips) (k1_t158 : Fin (k1_t158_loop v2766 v2768 k1_t156).trips), ∀ a, (k1_off2157 v2766 v2768 k1_t156 k1_t158) a + S1x16.size a ≤ S72x256.size a := fun i v2766 v2768 k1_hw16 k1_t156 k1_t158 => k1_hw16.2.2.2.1.2.2.2.2.2.2.2.2.2.2.2.2.1 k1_t156 k1_t158
theorem k1_off2158_inb : ∀ (i : grid1.Coords) (v2766 : BitVec 32) (v2768 : BitVec 32) (k1_hw16 : k1_chk16 i v2766 v2768) (k1_t156 : Fin (k1_t156_loop v2766 v2768).trips) (k1_t158 : Fin (k1_t158_loop v2766 v2768 k1_t156).trips), ∀ a, (k1_off2158 v2766 v2768 k1_t156 k1_t158) a + S1x16.size a ≤ S72x256.size a := fun i v2766 v2768 k1_hw16 k1_t156 k1_t158 => k1_hw16.2.2.2.1.2.2.2.2.2.2.2.2.2.2.2.2.2.1 k1_t156 k1_t158
theorem k1_off2159_inb : ∀ (i : grid1.Coords) (v2766 : BitVec 32) (v2768 : BitVec 32) (k1_hw16 : k1_chk16 i v2766 v2768) (k1_t156 : Fin (k1_t156_loop v2766 v2768).trips) (k1_t158 : Fin (k1_t158_loop v2766 v2768 k1_t156).trips), ∀ a, (k1_off2159 v2766 v2768 k1_t156 k1_t158) a + S1x16.size a ≤ S72x256.size a := fun i v2766 v2768 k1_hw16 k1_t156 k1_t158 => k1_hw16.2.2.2.1.2.2.2.2.2.2.2.2.2.2.2.2.2.2.1 k1_t156 k1_t158
theorem k1_off2160_inb : ∀ (i : grid1.Coords) (v2766 : BitVec 32) (v2768 : BitVec 32) (k1_hw16 : k1_chk16 i v2766 v2768) (k1_t156 : Fin (k1_t156_loop v2766 v2768).trips), ∀ (k1_h143 : k1_cond143 v2766 v2768 k1_t156 = 1#1), ∀ a, (k1_off2160 i v2766 v2768 k1_t156) a + S72x256.size a ≤ S100000x512.size a := fun i v2766 v2768 k1_hw16 k1_t156 k1_h143 => k1_hw16.2.2.2.1.2.2.2.2.2.2.2.2.2.2.2.2.2.2.2.1 k1_t156 k1_h143
theorem k1_off2161_inb : ∀ (i : grid1.Coords) (v2766 : BitVec 32) (v2768 : BitVec 32) (k1_hw16 : k1_chk16 i v2766 v2768) (k1_t156 : Fin (k1_t156_loop v2766 v2768).trips), ∀ (k1_h143 : k1_cond143 v2766 v2768 k1_t156 = 1#1), ∀ (k1_h144 : k1_cond144 v2766 v2768 k1_t156 = 1#1), ∀ a, (k1_off2161 i v2766 v2768 k1_t156) a + S72x256.size a ≤ S100000x512.size a := fun i v2766 v2768 k1_hw16 k1_t156 k1_h143 k1_h144 => k1_hw16.2.2.2.1.2.2.2.2.2.2.2.2.2.2.2.2.2.2.2.2.1 k1_t156 k1_h143 k1_h144
theorem k1_t159_ok : ∀ (i : grid1.Coords) (v2766 : BitVec 32) (v2768 : BitVec 32) (k1_hw16 : k1_chk16 i v2766 v2768) (k1_t156 : Fin (k1_t156_loop v2766 v2768).trips), (k1_t159_loop v2766 v2768 k1_t156).OK := fun i v2766 v2768 k1_hw16 k1_t156 => k1_hw16.2.2.2.1.2.2.2.2.2.2.2.2.2.2.2.2.2.2.2.2.2.1 k1_t156
theorem k1_off2162_inb : ∀ (i : grid1.Coords) (v2766 : BitVec 32) (v2768 : BitVec 32) (k1_hw16 : k1_chk16 i v2766 v2768) (k1_t156 : Fin (k1_t156_loop v2766 v2768).trips) (k1_t159 : Fin (k1_t159_loop v2766 v2768 k1_t156).trips), ∀ a, (k1_off2162 v2766 v2768 k1_t156 k1_t159) a + S1x16.size a ≤ S72x256.size a := fun i v2766 v2768 k1_hw16 k1_t156 k1_t159 => k1_hw16.2.2.2.1.2.2.2.2.2.2.2.2.2.2.2.2.2.2.2.2.2.2.1 k1_t156 k1_t159
theorem k1_off2163_inb : ∀ (i : grid1.Coords) (v2766 : BitVec 32) (v2768 : BitVec 32) (k1_hw16 : k1_chk16 i v2766 v2768) (k1_t156 : Fin (k1_t156_loop v2766 v2768).trips) (k1_t159 : Fin (k1_t159_loop v2766 v2768 k1_t156).trips), ∀ a, (k1_off2163 v2766 v2768 k1_t156 k1_t159) a + S1x16.size a ≤ S72x256.size a := fun i v2766 v2768 k1_hw16 k1_t156 k1_t159 => k1_hw16.2.2.2.1.2.2.2.2.2.2.2.2.2.2.2.2.2.2.2.2.2.2.2.1 k1_t156 k1_t159
theorem k1_off2164_inb : ∀ (i : grid1.Coords) (v2766 : BitVec 32) (v2768 : BitVec 32) (k1_hw16 : k1_chk16 i v2766 v2768) (k1_t156 : Fin (k1_t156_loop v2766 v2768).trips) (k1_t159 : Fin (k1_t159_loop v2766 v2768 k1_t156).trips), ∀ a, (k1_off2164 v2766 v2768 k1_t156 k1_t159) a + S1x16.size a ≤ S72x256.size a := fun i v2766 v2768 k1_hw16 k1_t156 k1_t159 => k1_hw16.2.2.2.1.2.2.2.2.2.2.2.2.2.2.2.2.2.2.2.2.2.2.2.2.1 k1_t156 k1_t159
theorem k1_off2165_inb : ∀ (i : grid1.Coords) (v2766 : BitVec 32) (v2768 : BitVec 32) (k1_hw16 : k1_chk16 i v2766 v2768) (k1_t156 : Fin (k1_t156_loop v2766 v2768).trips) (k1_t159 : Fin (k1_t159_loop v2766 v2768 k1_t156).trips), ∀ a, (k1_off2165 v2766 v2768 k1_t156 k1_t159) a + S1x16.size a ≤ S72x256.size a := fun i v2766 v2768 k1_hw16 k1_t156 k1_t159 => k1_hw16.2.2.2.1.2.2.2.2.2.2.2.2.2.2.2.2.2.2.2.2.2.2.2.2.2.1 k1_t156 k1_t159
theorem k1_off2166_inb : ∀ (i : grid1.Coords) (v2766 : BitVec 32) (v2768 : BitVec 32) (k1_hw16 : k1_chk16 i v2766 v2768) (k1_t156 : Fin (k1_t156_loop v2766 v2768).trips) (k1_t159 : Fin (k1_t159_loop v2766 v2768 k1_t156).trips), ∀ a, (k1_off2166 v2766 v2768 k1_t156 k1_t159) a + S1x16.size a ≤ S72x256.size a := fun i v2766 v2768 k1_hw16 k1_t156 k1_t159 => k1_hw16.2.2.2.1.2.2.2.2.2.2.2.2.2.2.2.2.2.2.2.2.2.2.2.2.2.2.1 k1_t156 k1_t159
theorem k1_off2167_inb : ∀ (i : grid1.Coords) (v2766 : BitVec 32) (v2768 : BitVec 32) (k1_hw16 : k1_chk16 i v2766 v2768) (k1_t156 : Fin (k1_t156_loop v2766 v2768).trips) (k1_t159 : Fin (k1_t159_loop v2766 v2768 k1_t156).trips), ∀ a, (k1_off2167 v2766 v2768 k1_t156 k1_t159) a + S1x16.size a ≤ S72x256.size a := fun i v2766 v2768 k1_hw16 k1_t156 k1_t159 => k1_hw16.2.2.2.1.2.2.2.2.2.2.2.2.2.2.2.2.2.2.2.2.2.2.2.2.2.2.2.1 k1_t156 k1_t159
theorem k1_off2168_inb : ∀ (i : grid1.Coords) (v2766 : BitVec 32) (v2768 : BitVec 32) (k1_hw16 : k1_chk16 i v2766 v2768) (k1_t156 : Fin (k1_t156_loop v2766 v2768).trips) (k1_t159 : Fin (k1_t159_loop v2766 v2768 k1_t156).trips), ∀ a, (k1_off2168 v2766 v2768 k1_t156 k1_t159) a + S1x16.size a ≤ S72x256.size a := fun i v2766 v2768 k1_hw16 k1_t156 k1_t159 => k1_hw16.2.2.2.1.2.2.2.2.2.2.2.2.2.2.2.2.2.2.2.2.2.2.2.2.2.2.2.2.1 k1_t156 k1_t159
theorem k1_off2169_inb : ∀ (i : grid1.Coords) (v2766 : BitVec 32) (v2768 : BitVec 32) (k1_hw16 : k1_chk16 i v2766 v2768) (k1_t156 : Fin (k1_t156_loop v2766 v2768).trips) (k1_t159 : Fin (k1_t159_loop v2766 v2768 k1_t156).trips), ∀ a, (k1_off2169 v2766 v2768 k1_t156 k1_t159) a + S1x16.size a ≤ S72x256.size a := fun i v2766 v2768 k1_hw16 k1_t156 k1_t159 => k1_hw16.2.2.2.1.2.2.2.2.2.2.2.2.2.2.2.2.2.2.2.2.2.2.2.2.2.2.2.2.2.1 k1_t156 k1_t159
theorem k1_off2170_inb : ∀ (i : grid1.Coords) (v2766 : BitVec 32) (v2768 : BitVec 32) (k1_hw16 : k1_chk16 i v2766 v2768) (k1_t156 : Fin (k1_t156_loop v2766 v2768).trips) (k1_t159 : Fin (k1_t159_loop v2766 v2768 k1_t156).trips), ∀ a, (k1_off2170 v2766 v2768 k1_t156 k1_t159) a + S1x16.size a ≤ S72x256.size a := fun i v2766 v2768 k1_hw16 k1_t156 k1_t159 => k1_hw16.2.2.2.1.2.2.2.2.2.2.2.2.2.2.2.2.2.2.2.2.2.2.2.2.2.2.2.2.2.2.1 k1_t156 k1_t159
theorem k1_off2171_inb : ∀ (i : grid1.Coords) (v2766 : BitVec 32) (v2768 : BitVec 32) (k1_hw16 : k1_chk16 i v2766 v2768) (k1_t156 : Fin (k1_t156_loop v2766 v2768).trips) (k1_t159 : Fin (k1_t159_loop v2766 v2768 k1_t156).trips), ∀ a, (k1_off2171 v2766 v2768 k1_t156 k1_t159) a + S1x16.size a ≤ S72x256.size a := fun i v2766 v2768 k1_hw16 k1_t156 k1_t159 => k1_hw16.2.2.2.1.2.2.2.2.2.2.2.2.2.2.2.2.2.2.2.2.2.2.2.2.2.2.2.2.2.2.2.1 k1_t156 k1_t159
theorem k1_off2172_inb : ∀ (i : grid1.Coords) (v2766 : BitVec 32) (v2768 : BitVec 32) (k1_hw16 : k1_chk16 i v2766 v2768) (k1_t156 : Fin (k1_t156_loop v2766 v2768).trips) (k1_t159 : Fin (k1_t159_loop v2766 v2768 k1_t156).trips), ∀ a, (k1_off2172 v2766 v2768 k1_t156 k1_t159) a + S1x16.size a ≤ S72x256.size a := fun i v2766 v2768 k1_hw16 k1_t156 k1_t159 => k1_hw16.2.2.2.1.2.2.2.2.2.2.2.2.2.2.2.2.2.2.2.2.2.2.2.2.2.2.2.2.2.2.2.2.1 k1_t156 k1_t159
theorem k1_off2173_inb : ∀ (i : grid1.Coords) (v2766 : BitVec 32) (v2768 : BitVec 32) (k1_hw16 : k1_chk16 i v2766 v2768) (k1_t156 : Fin (k1_t156_loop v2766 v2768).trips) (k1_t159 : Fin (k1_t159_loop v2766 v2768 k1_t156).trips), ∀ a, (k1_off2173 v2766 v2768 k1_t156 k1_t159) a + S1x16.size a ≤ S72x256.size a := fun i v2766 v2768 k1_hw16 k1_t156 k1_t159 => k1_hw16.2.2.2.1.2.2.2.2.2.2.2.2.2.2.2.2.2.2.2.2.2.2.2.2.2.2.2.2.2.2.2.2.2.1 k1_t156 k1_t159
theorem k1_off2174_inb : ∀ (i : grid1.Coords) (v2766 : BitVec 32) (v2768 : BitVec 32) (k1_hw16 : k1_chk16 i v2766 v2768) (k1_t156 : Fin (k1_t156_loop v2766 v2768).trips) (k1_t159 : Fin (k1_t159_loop v2766 v2768 k1_t156).trips), ∀ a, (k1_off2174 v2766 v2768 k1_t156 k1_t159) a + S1x16.size a ≤ S72x256.size a := fun i v2766 v2768 k1_hw16 k1_t156 k1_t159 => k1_hw16.2.2.2.1.2.2.2.2.2.2.2.2.2.2.2.2.2.2.2.2.2.2.2.2.2.2.2.2.2.2.2.2.2.2.1 k1_t156 k1_t159
theorem k1_off2175_inb : ∀ (i : grid1.Coords) (v2766 : BitVec 32) (v2768 : BitVec 32) (k1_hw16 : k1_chk16 i v2766 v2768) (k1_t156 : Fin (k1_t156_loop v2766 v2768).trips) (k1_t159 : Fin (k1_t159_loop v2766 v2768 k1_t156).trips), ∀ a, (k1_off2175 v2766 v2768 k1_t156 k1_t159) a + S1x16.size a ≤ S72x256.size a := fun i v2766 v2768 k1_hw16 k1_t156 k1_t159 => k1_hw16.2.2.2.1.2.2.2.2.2.2.2.2.2.2.2.2.2.2.2.2.2.2.2.2.2.2.2.2.2.2.2.2.2.2.2 k1_t156 k1_t159
theorem k1_off2176_inb : ∀ (i : grid1.Coords) (v2766 : BitVec 32) (v2768 : BitVec 32) (k1_hw16 : k1_chk16 i v2766 v2768) (k1_t156 : Fin (k1_t156_loop v2766 v2768).trips) (k1_t159 : Fin (k1_t159_loop v2766 v2768 k1_t156).trips), ∀ a, (k1_off2176 v2766 v2768 k1_t156 k1_t159) a + S1x16.size a ≤ S72x256.size a := fun i v2766 v2768 k1_hw16 k1_t156 k1_t159 => k1_hw16.2.2.2.2.1 k1_t156 k1_t159
theorem k1_off2177_inb : ∀ (i : grid1.Coords) (v2766 : BitVec 32) (v2768 : BitVec 32) (k1_hw16 : k1_chk16 i v2766 v2768) (k1_t156 : Fin (k1_t156_loop v2766 v2768).trips) (k1_t159 : Fin (k1_t159_loop v2766 v2768 k1_t156).trips), ∀ a, (k1_off2177 v2766 v2768 k1_t156 k1_t159) a + S1x16.size a ≤ S72x256.size a := fun i v2766 v2768 k1_hw16 k1_t156 k1_t159 => k1_hw16.2.2.2.2.2.1 k1_t156 k1_t159
theorem k1_t160_ok : ∀ (i : grid1.Coords) (v2766 : BitVec 32) (v2768 : BitVec 32) (k1_hw16 : k1_chk16 i v2766 v2768) (k1_t156 : Fin (k1_t156_loop v2766 v2768).trips), (k1_t160_loop v2766 v2768 k1_t156).OK := fun i v2766 v2768 k1_hw16 k1_t156 => k1_hw16.2.2.2.2.2.2.1 k1_t156
theorem k1_off2178_inb : ∀ (i : grid1.Coords) (v2766 : BitVec 32) (v2768 : BitVec 32) (k1_hw16 : k1_chk16 i v2766 v2768) (k1_t156 : Fin (k1_t156_loop v2766 v2768).trips) (k1_t160 : Fin (k1_t160_loop v2766 v2768 k1_t156).trips), ∀ a, (k1_off2178 v2766 v2768 k1_t156 k1_t160) a + S1x16.size a ≤ S72x256.size a := fun i v2766 v2768 k1_hw16 k1_t156 k1_t160 => k1_hw16.2.2.2.2.2.2.2.1 k1_t156 k1_t160
theorem k1_off2179_inb : ∀ (i : grid1.Coords) (v2766 : BitVec 32) (v2768 : BitVec 32) (k1_hw16 : k1_chk16 i v2766 v2768) (k1_t156 : Fin (k1_t156_loop v2766 v2768).trips) (k1_t160 : Fin (k1_t160_loop v2766 v2768 k1_t156).trips), ∀ a, (k1_off2179 v2766 v2768 k1_t156 k1_t160) a + S1x16.size a ≤ S72x256.size a := fun i v2766 v2768 k1_hw16 k1_t156 k1_t160 => k1_hw16.2.2.2.2.2.2.2.2.1 k1_t156 k1_t160
theorem k1_off2180_inb : ∀ (i : grid1.Coords) (v2766 : BitVec 32) (v2768 : BitVec 32) (k1_hw16 : k1_chk16 i v2766 v2768) (k1_t156 : Fin (k1_t156_loop v2766 v2768).trips) (k1_t160 : Fin (k1_t160_loop v2766 v2768 k1_t156).trips), ∀ a, (k1_off2180 v2766 v2768 k1_t156 k1_t160) a + S1x16.size a ≤ S72x256.size a := fun i v2766 v2768 k1_hw16 k1_t156 k1_t160 => k1_hw16.2.2.2.2.2.2.2.2.2.1 k1_t156 k1_t160
theorem k1_off2181_inb : ∀ (i : grid1.Coords) (v2766 : BitVec 32) (v2768 : BitVec 32) (k1_hw16 : k1_chk16 i v2766 v2768) (k1_t156 : Fin (k1_t156_loop v2766 v2768).trips) (k1_t160 : Fin (k1_t160_loop v2766 v2768 k1_t156).trips), ∀ a, (k1_off2181 v2766 v2768 k1_t156 k1_t160) a + S1x16.size a ≤ S72x256.size a := fun i v2766 v2768 k1_hw16 k1_t156 k1_t160 => k1_hw16.2.2.2.2.2.2.2.2.2.2.1 k1_t156 k1_t160
theorem k1_off2182_inb : ∀ (i : grid1.Coords) (v2766 : BitVec 32) (v2768 : BitVec 32) (k1_hw16 : k1_chk16 i v2766 v2768) (k1_t156 : Fin (k1_t156_loop v2766 v2768).trips) (k1_t160 : Fin (k1_t160_loop v2766 v2768 k1_t156).trips), ∀ a, (k1_off2182 v2766 v2768 k1_t156 k1_t160) a + S1x16.size a ≤ S72x256.size a := fun i v2766 v2768 k1_hw16 k1_t156 k1_t160 => k1_hw16.2.2.2.2.2.2.2.2.2.2.2.1 k1_t156 k1_t160
theorem k1_off2183_inb : ∀ (i : grid1.Coords) (v2766 : BitVec 32) (v2768 : BitVec 32) (k1_hw16 : k1_chk16 i v2766 v2768) (k1_t156 : Fin (k1_t156_loop v2766 v2768).trips) (k1_t160 : Fin (k1_t160_loop v2766 v2768 k1_t156).trips), ∀ a, (k1_off2183 v2766 v2768 k1_t156 k1_t160) a + S1x16.size a ≤ S72x256.size a := fun i v2766 v2768 k1_hw16 k1_t156 k1_t160 => k1_hw16.2.2.2.2.2.2.2.2.2.2.2.2.1 k1_t156 k1_t160
theorem k1_off2184_inb : ∀ (i : grid1.Coords) (v2766 : BitVec 32) (v2768 : BitVec 32) (k1_hw16 : k1_chk16 i v2766 v2768) (k1_t156 : Fin (k1_t156_loop v2766 v2768).trips) (k1_t160 : Fin (k1_t160_loop v2766 v2768 k1_t156).trips), ∀ a, (k1_off2184 v2766 v2768 k1_t156 k1_t160) a + S1x16.size a ≤ S72x256.size a := fun i v2766 v2768 k1_hw16 k1_t156 k1_t160 => k1_hw16.2.2.2.2.2.2.2.2.2.2.2.2.2.1 k1_t156 k1_t160
theorem k1_off2185_inb : ∀ (i : grid1.Coords) (v2766 : BitVec 32) (v2768 : BitVec 32) (k1_hw16 : k1_chk16 i v2766 v2768) (k1_t156 : Fin (k1_t156_loop v2766 v2768).trips) (k1_t160 : Fin (k1_t160_loop v2766 v2768 k1_t156).trips), ∀ a, (k1_off2185 v2766 v2768 k1_t156 k1_t160) a + S1x16.size a ≤ S72x256.size a := fun i v2766 v2768 k1_hw16 k1_t156 k1_t160 => k1_hw16.2.2.2.2.2.2.2.2.2.2.2.2.2.2.1 k1_t156 k1_t160
theorem k1_off2186_inb : ∀ (i : grid1.Coords) (v2766 : BitVec 32) (v2768 : BitVec 32) (k1_hw16 : k1_chk16 i v2766 v2768) (k1_t156 : Fin (k1_t156_loop v2766 v2768).trips) (k1_t160 : Fin (k1_t160_loop v2766 v2768 k1_t156).trips), ∀ a, (k1_off2186 v2766 v2768 k1_t156 k1_t160) a + S1x16.size a ≤ S72x256.size a := fun i v2766 v2768 k1_hw16 k1_t156 k1_t160 => k1_hw16.2.2.2.2.2.2.2.2.2.2.2.2.2.2.2.1 k1_t156 k1_t160
theorem k1_off2187_inb : ∀ (i : grid1.Coords) (v2766 : BitVec 32) (v2768 : BitVec 32) (k1_hw16 : k1_chk16 i v2766 v2768) (k1_t156 : Fin (k1_t156_loop v2766 v2768).trips) (k1_t160 : Fin (k1_t160_loop v2766 v2768 k1_t156).trips), ∀ a, (k1_off2187 v2766 v2768 k1_t156 k1_t160) a + S1x16.size a ≤ S72x256.size a := fun i v2766 v2768 k1_hw16 k1_t156 k1_t160 => k1_hw16.2.2.2.2.2.2.2.2.2.2.2.2.2.2.2.2.1 k1_t156 k1_t160
theorem k1_off2188_inb : ∀ (i : grid1.Coords) (v2766 : BitVec 32) (v2768 : BitVec 32) (k1_hw16 : k1_chk16 i v2766 v2768) (k1_t156 : Fin (k1_t156_loop v2766 v2768).trips) (k1_t160 : Fin (k1_t160_loop v2766 v2768 k1_t156).trips), ∀ a, (k1_off2188 v2766 v2768 k1_t156 k1_t160) a + S1x16.size a ≤ S72x256.size a := fun i v2766 v2768 k1_hw16 k1_t156 k1_t160 => k1_hw16.2.2.2.2.2.2.2.2.2.2.2.2.2.2.2.2.2.1 k1_t156 k1_t160
theorem k1_off2189_inb : ∀ (i : grid1.Coords) (v2766 : BitVec 32) (v2768 : BitVec 32) (k1_hw16 : k1_chk16 i v2766 v2768) (k1_t156 : Fin (k1_t156_loop v2766 v2768).trips) (k1_t160 : Fin (k1_t160_loop v2766 v2768 k1_t156).trips), ∀ a, (k1_off2189 v2766 v2768 k1_t156 k1_t160) a + S1x16.size a ≤ S72x256.size a := fun i v2766 v2768 k1_hw16 k1_t156 k1_t160 => k1_hw16.2.2.2.2.2.2.2.2.2.2.2.2.2.2.2.2.2.2.1 k1_t156 k1_t160
theorem k1_off2190_inb : ∀ (i : grid1.Coords) (v2766 : BitVec 32) (v2768 : BitVec 32) (k1_hw16 : k1_chk16 i v2766 v2768) (k1_t156 : Fin (k1_t156_loop v2766 v2768).trips) (k1_t160 : Fin (k1_t160_loop v2766 v2768 k1_t156).trips), ∀ a, (k1_off2190 v2766 v2768 k1_t156 k1_t160) a + S1x16.size a ≤ S72x256.size a := fun i v2766 v2768 k1_hw16 k1_t156 k1_t160 => k1_hw16.2.2.2.2.2.2.2.2.2.2.2.2.2.2.2.2.2.2.2.1 k1_t156 k1_t160
theorem k1_off2191_inb : ∀ (i : grid1.Coords) (v2766 : BitVec 32) (v2768 : BitVec 32) (k1_hw16 : k1_chk16 i v2766 v2768) (k1_t156 : Fin (k1_t156_loop v2766 v2768).trips) (k1_t160 : Fin (k1_t160_loop v2766 v2768 k1_t156).trips), ∀ a, (k1_off2191 v2766 v2768 k1_t156 k1_t160) a + S1x16.size a ≤ S72x256.size a := fun i v2766 v2768 k1_hw16 k1_t156 k1_t160 => k1_hw16.2.2.2.2.2.2.2.2.2.2.2.2.2.2.2.2.2.2.2.2.1 k1_t156 k1_t160
theorem k1_off2192_inb : ∀ (i : grid1.Coords) (v2766 : BitVec 32) (v2768 : BitVec 32) (k1_hw16 : k1_chk16 i v2766 v2768) (k1_t156 : Fin (k1_t156_loop v2766 v2768).trips) (k1_t160 : Fin (k1_t160_loop v2766 v2768 k1_t156).trips), ∀ a, (k1_off2192 v2766 v2768 k1_t156 k1_t160) a + S1x16.size a ≤ S72x256.size a := fun i v2766 v2768 k1_hw16 k1_t156 k1_t160 => k1_hw16.2.2.2.2.2.2.2.2.2.2.2.2.2.2.2.2.2.2.2.2.2.1 k1_t156 k1_t160
theorem k1_off2193_inb : ∀ (i : grid1.Coords) (v2766 : BitVec 32) (v2768 : BitVec 32) (k1_hw16 : k1_chk16 i v2766 v2768) (k1_t156 : Fin (k1_t156_loop v2766 v2768).trips) (k1_t160 : Fin (k1_t160_loop v2766 v2768 k1_t156).trips), ∀ a, (k1_off2193 v2766 v2768 k1_t156 k1_t160) a + S1x16.size a ≤ S72x256.size a := fun i v2766 v2768 k1_hw16 k1_t156 k1_t160 => k1_hw16.2.2.2.2.2.2.2.2.2.2.2.2.2.2.2.2.2.2.2.2.2.2 k1_t156 k1_t160

def k1_off2194 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c16_i32_1406 : BitVec 32 := 16#32
  let v2947 : BitVec 32 := Scalar.muli v18 c16_i32_1406
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  ![v2947.toNat, v29.toNat]
abbrev grid2 : Pipeline.Grid := .none

abbrev stage2_0 : Fin 1 → Memref sig .tc .vmem S256x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S256x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S256 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .smem S3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S512x1536 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S256x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x512 : Shape := ⟨2, ![100000, 512]⟩
abbrev S100000 : Shape := ⟨1, ![100000]⟩
abbrev S3 : Shape := ⟨1, ![3]⟩
abbrev S512x1536 : Shape := ⟨2, ![512, 1536]⟩
abbrev S512 : Shape := ⟨1, ![512]⟩
abbrev S_ : Shape := ⟨0, ![]⟩
abbrev S256x512 : Shape := ⟨2, ![256, 512]⟩
abbrev S100000x1 : Shape := ⟨2, ![100000, 1]⟩
abbrev S256 : Shape := ⟨1, ![256]⟩
abbrev S256x1 : Shape := ⟨2, ![256, 1]⟩
abbrev S1x100000 : Shape := ⟨2, ![1, 100000]⟩
abbrev S256x100000 : Shape := ⟨2, ![256, 100000]⟩
abbrev S256x100000x1 : Shape := ⟨3, ![256, 100000, 1]⟩
abbrev S1x100000x512 : Shape := ⟨3, ![1, 100000, 512]⟩
abbrev S256x100000x512 : Shape := ⟨3, ![256, 100000, 512]⟩
abbrev S1 : Shape := ⟨1, ![1]⟩
abbrev S256x1536 : Shape := ⟨2, ![256, 1536]⟩
abbrev S1536x512 : Shape := ⟨2, ![1536, 512]⟩
abbrev S1x512 : Shape := ⟨2, ![1, 512]⟩

abbrev nBuf : Space → Nat
  | .hbm => 67
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S3, .f32⟩
  | .hbm, ⟨3, _⟩ => ⟨S512x1536, .f32⟩
  | .hbm, ⟨4, _⟩ => ⟨S512, .f32⟩
  | .hbm, ⟨5, _⟩ => ⟨S_, .f32⟩
  | .hbm, ⟨6, _⟩ => ⟨S256x512, .f32⟩
  | .hbm, ⟨7, _⟩ => ⟨S100000x1, .i32⟩
  | .hbm, ⟨8, _⟩ => ⟨S256x512, .f32⟩
  | .hbm, ⟨9, _⟩ => ⟨S_, .i32⟩
  | .hbm, ⟨10, _⟩ => ⟨S256, .i32⟩
  | .hbm, ⟨11, _⟩ => ⟨S_, .i32⟩
  | .hbm, ⟨12, _⟩ => ⟨S_, .i32⟩
  | .hbm, ⟨13, _⟩ => ⟨S100000, .i32⟩
  | .hbm, ⟨14, _⟩ => ⟨S100000, .i32⟩
  | .hbm, ⟨15, _⟩ => ⟨S_, .i32⟩
  | .hbm, ⟨16, _⟩ => ⟨S100000, .i32⟩
  | .hbm, ⟨17, _⟩ => ⟨S100000, .i1⟩
  | .hbm, ⟨18, _⟩ => ⟨S_, .i32⟩
  | .hbm, ⟨19, _⟩ => ⟨S100000, .i32⟩
  | .hbm, ⟨20, _⟩ => ⟨S100000, .i32⟩
  | .hbm, ⟨21, _⟩ => ⟨S100000, .i32⟩
  | .hbm, ⟨22, _⟩ => ⟨S100000x1, .i32⟩
  | .hbm, ⟨23, _⟩ => ⟨S_, .i32⟩
  | .hbm, ⟨24, _⟩ => ⟨S100000, .i32⟩
  | .hbm, ⟨25, _⟩ => ⟨S256, .i32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256x1, .f32⟩
  | .hbm, ⟨31, _⟩ => ⟨S256x512, .f32⟩
  | .hbm, ⟨32, _⟩ => ⟨S256x512, .f32⟩
  | .hbm, ⟨33, _⟩ => ⟨S1x100000, .i32⟩
  | .hbm, ⟨34, _⟩ => ⟨S256, .i32⟩
  | .hbm, ⟨35, _⟩ => ⟨S256x1, .i32⟩
  | .hbm, ⟨36, _⟩ => ⟨S256x100000, .i32⟩
  | .hbm, ⟨37, _⟩ => ⟨S256x100000, .i32⟩
  | .hbm, ⟨38, _⟩ => ⟨S256x100000, .i1⟩
  | .hbm, ⟨39, _⟩ => ⟨S256x100000x1, .i1⟩
  | .hbm, ⟨40, _⟩ => ⟨S1x100000x512, .f32⟩
  | .hbm, ⟨41, _⟩ => ⟨S_, .f32⟩
  | .hbm, ⟨42, _⟩ => ⟨S_, .f32⟩
  | .hbm, ⟨43, _⟩ => ⟨S256x100000x512, .i1⟩
  | .hbm, ⟨44, _⟩ => ⟨S256x100000x512, .f32⟩
  | .hbm, ⟨45, _⟩ => ⟨S256x100000x512, .f32⟩
  | .hbm, ⟨46, _⟩ => ⟨S256x100000x512, .f32⟩
  | .hbm, ⟨47, _⟩ => ⟨S_, .f32⟩
  | .hbm, ⟨48, _⟩ => ⟨S256x512, .f32⟩
  | .hbm, ⟨49, _⟩ => ⟨S1, .f32⟩
  | .hbm, ⟨50, _⟩ => ⟨S_, .f32⟩
  | .hbm, ⟨51, _⟩ => ⟨S256x512, .f32⟩
  | .hbm, ⟨52, _⟩ => ⟨S256x512, .f32⟩
  | .hbm, ⟨53, _⟩ => ⟨S1, .f32⟩
  | .hbm, ⟨54, _⟩ => ⟨S_, .f32⟩
  | .hbm, ⟨55, _⟩ => ⟨S256x512, .f32⟩
  | .hbm, ⟨56, _⟩ => ⟨S256x512, .f32⟩
  | .hbm, ⟨57, _⟩ => ⟨S1, .f32⟩
  | .hbm, ⟨58, _⟩ => ⟨S_, .f32⟩
  | .hbm, ⟨59, _⟩ => ⟨S256x512, .f32⟩
  | .hbm, ⟨60, _⟩ => ⟨S256x512, .f32⟩
  | .hbm, ⟨61, _⟩ => ⟨S256x1536, .f32⟩
  | .hbm, ⟨62, _⟩ => ⟨S1536x512, .f32⟩
  | .hbm, ⟨63, _⟩ => ⟨S256x512, .f32⟩
  | .hbm, ⟨64, _⟩ => ⟨S1x512, .f32⟩
  | .hbm, ⟨65, _⟩ => ⟨S256x512, .f32⟩
  | .hbm, ⟨66, _⟩ => ⟨S256x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Proof.Pool.Words.lean ====
/-
  The 32-bit words the pooling kernel computes its loop bounds, conditions and offsets from, written once each, with what
  each reads as an integer. A segment of rows `[r0, r1)` is worked through in chunks of 64 rows; chunk `c` starts at row
  `r0 + 64 c`, and is copied as 72 rows from the multiple of 8 below it (never past row 99928, so that 72 rows are there).
-/
module

public import Idealize.ShloMosaic.Lib.Affine
public import Idealize.ShloMosaic.Lib.LoopRemainder

@[expose] public section

namespace Cert.Proof.Pool

open Idealize.ShloMosaic Idealize.ShloMosaic.Affine

/-! ## The words -/

/-- `x / d` rounded down, as the kernel spells it over the truncating division. -/
def floorW (x d : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- `x mod 2` rounded toward minus infinity, as the kernel spells it. -/
def mod2W (x : BitVec 32) : BitVec 32 :=
  Scalar.select (Scalar.andi
      (Scalar.xori (Scalar.cmpi .slt (Scalar.remsi x (Scalar.select (Scalar.cmpi .eq 2#32 0#32) 1#32 2#32)) 0#32)
        (Scalar.cmpi .slt (Scalar.select (Scalar.cmpi .eq 2#32 0#32) 1#32 2#32) 0#32))
      (Scalar.cmpi .ne (Scalar.remsi x (Scalar.select (Scalar.cmpi .eq 2#32 0#32) 1#32 2#32)) 0#32))
    (Scalar.addi (Scalar.remsi x (Scalar.select (Scalar.cmpi .eq 2#32 0#32) 1#32 2#32)) (Scalar.select (Scalar.cmpi .eq 2#32 0#32) 1#32 2#32))
    (Scalar.remsi x (Scalar.select (Scalar.cmpi .eq 2#32 0#32) 1#32 2#32))

/-- The number of the tile `(c, s)`: `2 s + c`. -/
def tileW (c s : Nat) : BitVec 32 := Scalar.addi (Scalar.muli (BitVec.ofNat 32 s) 2#32) (BitVec.ofNat 32 c)
/-- The tile's first column: 256 times its number's parity. -/
def colW (c s : Nat) : BitVec 32 := Scalar.muli (mod2W (tileW c s)) 256#32
/-- The tile's first segment: 16 times half its number. -/
def segW (c s : Nat) : BitVec 32 := Scalar.muli (floorW (tileW c s) 2#32) 16#32

/-- The number of chunks of the segment `[r0, r1)`. -/
def chunksW (r0 r1 : BitVec 32) : BitVec 32 := floorW (Scalar.subi (Scalar.addi (Scalar.subi r1 r0) 64#32) 1#32) 64#32
/-- The number of pairs of chunks. -/
def pairsW (r0 r1 : BitVec 32) : BitVec 32 := floorW (Scalar.addi (chunksW r0 r1) 1#32) 2#32
/-- The upper bound of a counted loop of `n` steps from 0, as the kernel spells it. -/
def uptoW (n : BitVec 32) : BitVec 32 :=
  Scalar.addi 0#32 (Scalar.muli (Scalar.divsi (Scalar.subi n 0#32) 1#32) 1#32)
/-- The row chunk `c` starts at. -/
def startW (r0 c : BitVec 32) : BitVec 32 := Scalar.addi r0 (Scalar.muli c 64#32)
/-- The row the copy of the chunk starting at row `x` begins at. -/
def copyW (x : BitVec 32) : BitVec 32 := Scalar.minsi (Scalar.muli (floorW x 8#32) 8#32) 99928#32
/-- The number of rows of chunk `c`, at least 0. -/
def rowsW (r0 r1 c : BitVec 32) : BitVec 32 := Scalar.maxsi 0#32 (Scalar.minsi 64#32 (Scalar.subi r1 (startW r0 c)))
/-- The condition "`c` is below `n`", as the kernel tests it. -/
def belowW (c n : BitVec 32) : BitVec 1 := Scalar.cmpi .ne (Scalar.extui (Scalar.cmpi .slt c n) : BitVec 32) 0#32
/-- The condition "`n` is positive", as the kernel tests it. -/
def posW (n : BitVec 32) : BitVec 1 := Scalar.cmpi .ne (Scalar.extui (Scalar.cmpi .sgt n 0#32) : BitVec 32) 0#32
/-- The row of the copied block that trip `t` of chunk `c`'s row loop reads. -/
def rowW (r0 c : BitVec 32) (t : Nat) : BitVec 32 :=
  Scalar.indexCast (Scalar.addi (Scalar.subi (startW r0 c) (copyW (startW r0 c))) (Scf.iv 0#32 1#32 t))
/-- The first chunk of pair `t`. -/
def evenW (t : Nat) : BitVec 32 := Scalar.muli 2#32 (Scf.iv 0#32 1#32 t)
/-- The second chunk of pair `t`. -/
def oddW (t : Nat) : BitVec 32 := Scalar.addi (evenW t) 1#32
/-- The loop over the pairs of chunks, -/
@[reducible] def pairLoop (r0 r1 : BitVec 32) : Scf.Loop 32 := ⟨0#32, uptoW (pairsW r0 r1), 1#32⟩
/-- and the loop over the rows of chunk `c`. -/
@[reducible] def rowLoop (r0 r1 c : BitVec 32) : Scf.Loop 32 := ⟨0#32, uptoW (rowsW r0 r1 c), 1#32⟩

/-! ## What they read as -/

theorem lit (n : Nat) (h : n < 2 ^ 31 := by decide) : IsInt (BitVec.ofNat 32 n) n := ofNat n ⟨rfl, h⟩

theorem floorW_int {x d : BitVec 32} {e k : Int} (hx : IsInt x e) (hd : IsInt d k) (he : 0 ≤ e) (hk : 0 < k) (hk' : k < 2 ^ 31) :
    IsInt (floorW x d) (e / k) := by
  have h0 : IsInt (0#32) 0 := lit 0
  have hb := word_range x
  have hq : IsInt (Scalar.divsi x d) (e / k) := divsi hx hd ⟨rfl, he, hk⟩
  have hr : IsInt (Scalar.remsi x d) (e % k) := remsi hx hd ⟨rfl, he, hk⟩
  have hd1 : IsInt (Scalar.extui (Scalar.cmpi .sgt d 0#32)) 1 := extui_holds (sgt_holds hd h0 hk) rfl
  have hd2 : IsInt (Scalar.extui (Scalar.cmpi .slt d 0#32)) 0 := extui_fails (slt_fails hd h0 (by omega)) rfl
  have hx2 : IsInt (Scalar.extui (Scalar.cmpi .slt x 0#32)) 0 := extui_fails (slt_fails hx h0 (by omega)) rfl
  have hsd : IsInt (Scalar.subi (Scalar.extui (Scalar.cmpi .sgt d 0#32)) (Scalar.extui (Scalar.cmpi .slt d 0#32))) 1 := subi hd1 hd2 (by omega)
  have hu : IsInt x x.toInt := word x
  have hxe : x.toInt = e := unique hu hx
  have hle : 0 ≤ e / k ∧ e / k ≤ e := ⟨Int.ediv_nonneg he hk.le, Int.ediv_le_self _ he⟩
  have hs1 : IsInt (Scalar.subi (Scalar.divsi x d) 1#32) (e / k - 1) := subi hq (lit 1) (by omega)
  refine select_fails ?_ hs1 hq rfl
  rcases Int.lt_or_eq_of_le he with hp | hz
  · have hx1 : IsInt (Scalar.extui (Scalar.cmpi .sgt x 0#32)) 1 := extui_holds (sgt_holds hx h0 hp) rfl
    exact andi_fails_left (ne_fails (subi hx1 hx2 (e := 1) (by omega)) hsd rfl) trivial
  · refine andi_fails_right trivial (ne_fails hr h0 ?_)
    rw [← hz]; exact Int.zero_emod k

theorem mod2W_int {x : BitVec 32} {e : Int} (hx : IsInt x e) (he : 0 ≤ e) : IsInt (mod2W x) (e % 2) := by
  have h0 : IsInt (0#32) 0 := lit 0
  have h2 : IsInt (Scalar.select (Scalar.cmpi .eq 2#32 0#32) 1#32 2#32) 2 :=
    select_fails (eq_fails (lit 2) h0 (by decide)) (lit 1) (lit 2) rfl
  have hr := remsi hx h2 (e := e % 2) ⟨rfl, he, by decide⟩
  refine select_fails ?_ (addi hr h2 (e := e % 2 + 2) (by omega)) hr rfl
  exact andi_fails_left (xori_ff (slt_fails hr h0 (by omega)) (slt_fails h2 h0 (by decide))) trivial

section Tile
variable {c s : Nat} (hc : c < 2) (hs : s < 16)
include hc hs

theorem tileW_int : IsInt (tileW c s) ((2 * s + c : Nat) : Int) :=
  addi (muli (lit s (by omega)) (lit 2) (e := s * 2) (by omega)) (lit c (by omega)) (by push_cast; omega)
theorem colW_int : IsInt (colW c s) ((256 * c : Nat) : Int) :=
  muli (mod2W_int (tileW_int hc hs) (by omega)) (lit 256) (by push_cast; omega)
theorem segW_int : IsInt (segW c s) ((16 * s : Nat) : Int) :=
  muli (floorW_int (tileW_int hc hs) (lit 2) (by omega) (by decide) (by decide)) (lit 16) (by push_cast; omega)
theorem colW_nat : (colW c s).toNat = 256 * c := nat_eq (colW_int hc hs) _ rfl
theorem segW_nat : (segW c s).toNat = 16 * s := nat_eq (segW_int hc hs) _ rfl
end Tile

theorem uptoW_eq (n : BitVec 32) : uptoW n = n := by
  rw [uptoW, Scalar.muli_divsi_one]; simp [Scalar.addi, Scalar.subi, IntOp.addi, IntOp.subi]

theorem trips_upto {n : BitVec 32} {k : Nat} (hn : IsInt n k) : Scf.trips 0#32 (uptoW n) 1#32 = k := by
  rw [uptoW_eq]; exact trips_eq (lit 0) hn (lit 1) k (by omega)
theorem ok_upto {n : BitVec 32} {k : Nat} (hn : IsInt n k) : Scf.OK 0#32 (uptoW n) 1#32 := by
  rw [uptoW_eq]
  have := word_range n
  have := unique (word n) hn
  exact ok (lit 0) hn (lit 1) (by omega)

section Segment
variable {r0 r1 : BitVec 32} {a b : Nat} (ha : IsInt r0 a) (hb : IsInt r1 b) (hab : a ≤ b) (hbN : b ≤ 100000)
include ha hb hab hbN

/-- The chunks are as many as 64-row blocks the segment begins. -/
theorem chunksW_int : IsInt (chunksW r0 r1) (((b - a + 63) / 64 : Nat) : Int) := by
  have h1 := subi (addi (subi hb ha (e := b - a) (by omega)) (lit 64) (e := b - a + 64) (by omega)) (lit 1) (e := b - a + 63) (by omega)
  exact relit (floorW_int h1 (lit 64) (by omega) (by decide) (by decide)) (by omega)
theorem pairsW_int : IsInt (pairsW r0 r1) ((((b - a + 63) / 64 + 1) / 2 : Nat) : Int) :=
  relit (floorW_int (addi (chunksW_int ha hb hab hbN) (lit 1) (e := (((b - a + 63) / 64 : Nat) : Int) + 1) (by omega)) (lit 2) (by omega)
    (by decide) (by decide)) (by omega)

theorem pair_trips : (pairLoop r0 r1).trips = ((b - a + 63) / 64 + 1) / 2 := trips_upto (pairsW_int ha hb hab hbN)
theorem pair_ok : (pairLoop r0 r1).OK := ok_upto (pairsW_int ha hb hab hbN)

theorem posW_iff : posW (chunksW r0 r1) = 1#1 ↔ a < b := by
  rw [posW, Scalar.guard_iff]
  have h := chunksW_int ha hb hab hbN
  by_cases hl : a < b
  · exact ⟨fun _ => hl, fun _ => sgt_holds h (lit 0) (by omega)⟩
  · exact ⟨fun h' => absurd h' (sgt_fails h (lit 0) (by omega)), fun h' => absurd h' hl⟩

variable {c : BitVec 32} {k : Nat} (hc : IsInt c k) (hk : k ≤ 4000)
include hc hk

theorem belowW_iff : belowW c (chunksW r0 r1) = 1#1 ↔ k < (b - a + 63) / 64 := by
  rw [belowW, Scalar.guard_iff]
  have h := chunksW_int ha hb hab hbN
  by_cases hl : k < (b - a + 63) / 64
  · exact ⟨fun _ => hl, fun _ => slt_holds hc h (by omega)⟩
  · exact ⟨fun h' => absurd h' (slt_fails hc h (by omega)), fun h' => absurd h' hl⟩

theorem startW_int : IsInt (startW r0 c) ((a + 64 * k : Nat) : Int) :=
  addi ha (muli hc (lit 64) (e := k * 64) (by omega)) (by omega)

/-- Chunk `k` has as many rows as remain of the segment, at most 64. -/
theorem rowsW_int : IsInt (rowsW r0 r1 c) ((min 64 (b - (a + 64 * k)) : Nat) : Int) :=
  maxsi (lit 0) (minsi (lit 64) (subi hb (startW_int ha hb hab hbN hc hk) (e := b - (a + 64 * k : Nat)) (by omega)) rfl) (by omega)

theorem row_trips : (rowLoop r0 r1 c).trips = min 64 (b - (a + 64 * k)) := trips_upto (rowsW_int ha hb hab hbN hc hk)
theorem row_ok : (rowLoop r0 r1 c).OK := ok_upto (rowsW_int ha hb hab hbN hc hk)

end Segment

/-- The row the copy of the chunk starting at row `x` begins at. -/
def copyRow (x : Nat) : Nat := min (x / 8 * 8) 99928

section Copy
variable {x : BitVec 32} {e : Nat} (hx : IsInt x e) (he : e < 2 ^ 31)
include hx he

theorem copyW_int : IsInt (copyW x) (copyRow e : Int) :=
  minsi (muli (floorW_int hx (lit 8) (by omega) (by decide) (by decide)) (lit 8) (e := ((e / 8 * 8 : Nat) : Int)) (by omega)) (lit 99928)
    (by unfold copyRow; omega)
theorem copyW_nat : (copyW x).toNat = copyRow e := nat_eq (copyW_int hx he) _ rfl

end Copy

theorem copyRow_le (x : Nat) : copyRow x + 72 ≤ 100000 := by unfold copyRow; omega
/-- A row of a chunk is among the 72 its copy brings. -/
theorem copyRow_row {x t : Nat} (ht : t < 64) (h : x + t < 100000) : copyRow x ≤ x ∧ x - copyRow x + t < 72 := by
  unfold copyRow; omega

section Row
variable {r0 c : BitVec 32} {a k t : Nat} (ha : IsInt r0 a) (hc : IsInt c k) (ht : t < 64) (h : a + 64 * k + t < 100000)
include ha hc ht h

theorem rowW_nat : (rowW r0 c t).toNat = a + 64 * k - copyRow (a + 64 * k) + t := by
  have hs : IsInt (startW r0 c) ((a + 64 * k : Nat) : Int) := addi ha (muli hc (lit 64) (e := k * 64) (by omega)) (by omega)
  have hr := copyRow_row ht h
  refine nat_eq (ea := ((a + 64 * k - copyRow (a + 64 * k) + t : Nat) : Int)) (indexCast (addi (subi hs (copyW_int hs (by omega)) (e := (a + 64 * k - copyRow (a + 64 * k) : Nat)) (by omega))
    (iv (lit 0) (lit 1) t (e := t) (by omega)) (by omega))) _ rfl
theorem rowW_lt : (rowW r0 c t).toNat < 72 := by
  rw [rowW_nat ha hc ht h]; exact (copyRow_row ht h).2

end Row

/-- Every row a chunk's row loop reads is among the 72 copied. -/
theorem row_lt {r0 r1 c : BitVec 32} {a b k : Nat} (ha : IsInt r0 a) (hb : IsInt r1 b) (hab : a ≤ b) (hbN : b ≤ 100000) (hc : IsInt c k) (hk : k ≤ 4000)
    (t : Fin (rowLoop r0 r1 c).trips) : (rowW r0 c t).toNat < 72 := by
  have ht : t.val < min 64 (b - (a + 64 * k)) := row_trips ha hb hab hbN hc hk ▸ t.isLt
  exact rowW_lt ha hc (by omega) (by omega)

theorem evenW_int {t : Nat} (ht : t ≤ 1000) : IsInt (evenW t) ((2 * t : Nat) : Int) :=
  muli (lit 2) (iv (lit 0) (lit 1) t (e := t) (by omega)) (by omega)
theorem oddW_int {t : Nat} (ht : t ≤ 1000) : IsInt (oddW t) ((2 * t + 1 : Nat) : Int) :=
  addi (evenW_int ht) (lit 1) (by omega)
theorem nextW_int {t : Nat} (ht : t ≤ 1000) : IsInt (Scalar.addi (oddW t) 1#32) ((2 * t + 2 : Nat) : Int) :=
  addi (oddW_int ht) (lit 1) (by omega)

end Cert.Proof.Pool
-- ==== Proof.Pool.Base.lean ====
/-
  The pooling kernel's setting: its program as the launch sees it, the resources its proofs speak of, the buffers of one
  tile, and the values the kernel computes, stated over any float type.
-/
module

public import proofs.«01_k».proof.Defs
public import proofs.«01_k».proof.Proof.Pool.Words
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ValueLayout
public import Idealize.ShloMosaic.Lib.Writes
public import Idealize.ShloMosaic.Lib.Tactic
public import proofs.«01_k».proof.Proof.Gen.KernelIdeal

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx
open Idealize.ShloMosaic.Affine (IsInt)

variable {F : FTy → Type}

/-! ## The program as the launch theorem sees it -/

abbrev ΛP : Labels := Pipeline.Sig Λ₀ (Fin 2) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the pipelines', the transfers' counters -/

abbrev UH : Type := URounds (GSem nD τ sig) ℕ
/-- The pipelines' cells. -/
abbrev UP : Type := URounds (GSem nD τ sig) Unit
abbrev UU : Type := UH × (UP × Counters)
/-- The resources of this program's proofs. -/
abbrev MM (F : FTy → Type) := MT nD τ sig (HIx 1) (Elt F) ℕ UU ℕ
abbrev EH : Emb UH (MM F) := embL
abbrev EP : Emb UP (MM F) := (Emb.inl : Emb UP (UP × Counters)).trans embR

/-! ## One tile and its buffers -/

abbrev cV (L : grid1.Coords) : Fin τ.nSC := (L 0).castLE hcore1
abbrev jV (L : grid1.Coords) : Fin τ.nSub := (L 1).castLE hsub1
/-- The tile's effects, -/
abbrev TE (F : FTy → Type) (L : grid1.Coords) := TpuEff nD τ sig (Elt F) Λ₀ (.scVector (cV L) (jV L))
/-- and its thread. -/
abbrev thr (d : Dev nD) (L : grid1.Coords) : Thread nD τ := V d (cV L) (jV L)

abbrev xM : Memref sig .scVector .hbm S100000x512 .f32 := Memref.whole main_arg0_scv
abbrev startsM : Memref sig .scVector .hbm S272 .i32 := Memref.whole main_v5_scv
abbrev sumM : Memref sig .scVector .hbm S256x512 .f32 := Memref.whole main_v6_0_scv
abbrev maxM : Memref sig .scVector .hbm S256x512 .f32 := Memref.whole main_v6_1_scv
abbrev rowsM : Memref sig .scVector .vmem S32 .i32 := Memref.whole cc1_scratch0
abbrev bufA : Memref sig .scVector .vmem S72x256 .f32 := Memref.whole cc1_scratch1
abbrev bufB : Memref sig .scVector .vmem S72x256 .f32 := Memref.whole cc1_scratch2
abbrev stSum : Memref sig .scVector .vmem S16x256 .f32 := Memref.whole cc1_scratch3
abbrev stMax : Memref sig .scVector .vmem S16x256 .f32 := Memref.whole cc1_scratch4

/-! ## The values -/

abbrev V16 (F : FTy → Type) := FVec F S16 .f32
/-- What the kernel's loops carry: sixteen sums and sixteen maxima, each of sixteen columns. -/
abbrev Acc (F : FTy → Type) := V16 F × V16 F × V16 F × V16 F × V16 F × V16 F × V16 F × V16 F × V16 F × V16 F × V16 F × V16 F × V16 F × V16 F × V16 F × V16 F
  × V16 F × V16 F × V16 F × V16 F × V16 F × V16 F × V16 F × V16 F × V16 F × V16 F × V16 F × V16 F × V16 F × V16 F × V16 F × V16 F

def tup (A M : Fin 16 → V16 F) : Acc F :=
  (A 0, A 1, A 2, A 3, A 4, A 5, A 6, A 7, A 8, A 9, A 10, A 11, A 12, A 13, A 14, A 15,
    M 0, M 1, M 2, M 3, M 4, M 5, M 6, M 7, M 8, M 9, M 10, M 11, M 12, M 13, M 14, M 15)
def sums (a : Acc F) : Fin 16 → V16 F :=
  match a with
  | (a0, a1, a2, a3, a4, a5, a6, a7, a8, a9, a10, a11, a12, a13, a14, a15, _) => ![a0, a1, a2, a3, a4, a5, a6, a7, a8, a9, a10, a11, a12, a13, a14, a15]
def maxs (a : Acc F) : Fin 16 → V16 F :=
  match a with
  | (_, _, _, _, _, _, _, _, _, _, _, _, _, _, _, _, a0, a1, a2, a3, a4, a5, a6, a7, a8, a9, a10, a11, a12, a13, a14, a15) =>
    ![a0, a1, a2, a3, a4, a5, a6, a7, a8, a9, a10, a11, a12, a13, a14, a15]

theorem sums_tup (A M : Fin 16 → V16 F) : sums (tup A M) = A := by
  funext j; fin_cases j <;> rfl
theorem maxs_tup (A M : Fin 16 → V16 F) : maxs (tup A M) = M := by
  funext j; fin_cases j <;> rfl

/-- The entry of `x` at row `r`, column `c`. -/
def atRC {α : Type} (X : S100000x512.Idx → α) (r c : ℕ) : α := X (ix2 (Fin.ofNat 100000 r) (Fin.ofNat 512 c))
/-- Columns `c, …, c + 15` of row `r` of `x`. -/
def rowVec (X : S100000x512.Idx → F .f32) (r c : ℕ) : V16 F := fun l => atRC X r (c + (l 0).val)
/-- The 72 rows and 256 columns of `x` from row `r`, column `c`. -/
def blk (X : S100000x512.Idx → F .f32) (r c : ℕ) : S72x256.Idx → F .f32 := fun j => atRC X (r + (j 0).val) (c + (j 1).val)

variable [FloatOps F]

/-- The sum of columns `c, …` of rows `a, …, a + n - 1`, added in that order from zero, -/
def accS (X : S100000x512.Idx → F .f32) (a c : ℕ) : ℕ → V16 F
  | 0 => broadcast S16 (Scalar.ofBits .f32 0x00000000#32)
  | n + 1 => addf (accS X a c n) (rowVec X (a + n) c)
/-- and their maximum, taken in that order from minus infinity. -/
def accM (X : S100000x512.Idx → F .f32) (a c : ℕ) : ℕ → V16 F
  | 0 => broadcast S16 (Scalar.ofBits .f32 0xFF800000#32)
  | n + 1 => maximumf (accM X a c n) (rowVec X (a + n) c)

/-- What the loops carry after `n` rows of the segment beginning at row `a`, over the tile's columns from `c`. -/
def accT (X : S100000x512.Idx → F .f32) (a c n : ℕ) : Acc F :=
  tup (fun j => accS X a (c + 16 * j.val) n) (fun j => accM X a (c + 16 * j.val) n)

end Cert.Proof.Pool
-- ==== Proof.Pool.Count.lean ====
/-
  The counting kernel's body: at each of its seven points it reads fourteen rows of 1024 segment ids and adds, for each of the
  256 segment numbers, how many of them lie below it and how many equal it, to two running counts that begin at zero.
-/
module

public import proofs.«01_k».proof.Proof.Pool.Base
public import Idealize.ShloMosaic.Lib.WritesUnit
public import proofs.«01_k».proof.Proof.Gen.KernelIdeal.Launch
public import proofs.«01_k».proof.Proof.Gen.KernelIdeal.Points

@[expose] public section

noncomputable section

namespace Cert.Proof.Pool

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

/-! ## The counts as the body computes them -/

/-- The words of row `r` of a block of fourteen, one copy for each segment number. -/
def idRow (X : S14x1x1024.Idx → BitVec 32) (r : ℕ) (h : ∀ a, (![r, 0, 0] : Fin 3 → ℕ) a + S1x1x1024.size a ≤ S14x1x1024.size a) : IVec S256x1024 32 :=
  broadcastTo S256x1024 (shapeCast S1x1024 (shapeCast S1x1024 (shapeCast S1024
    (fun y : S1x1x1024.Idx => X ((Rect.unit (s := S14x1x1024) ![r, 0, 0] S1x1x1024.size h).toLoadRect.idx y))
    shapeCasts_S1x1x1024_S1024) shapeCasts_S1024_S1x1024) shapeCasts_S1x1024_S1x1024) broadcasts_S1x1024_S256x1024

/-- For each segment number, how many words of a row stand in relation `p` to it, -/
def rowCount (p : CmpIPredicate) (R : IVec S256x1024 32) : IVec S256 32 :=
  multiReductionI .add [1] S256 (extui 32 (cmpi p (iota .tc S256x1024 32 [0] iota_S256x1024_d0_w32) R) natLt_1_32) 0#32 reduces_S256x1024_S256 rfl

theorem row_fits {r : ℕ} (h : r < 14) : ∀ a, (![r, 0, 0] : Fin 3 → ℕ) a + S1x1x1024.size a ≤ S14x1x1024.size a := by
  intro a; fin_cases a
  · show r + 1 ≤ 14; omega
  · exact Nat.le_refl 1
  · exact Nat.le_refl 1024

/-- and the same over the first `n` rows. -/
def blockCount (p : CmpIPredicate) (X : S14x1x1024.Idx → BitVec 32) : (n : ℕ) → n ≤ 14 → IVec S256 32
  | 0, _ => broadcast S256 0#32
  | n + 1, h => addi (blockCount p X n (Nat.le_of_succ_le h)) (rowCount p (idRow X n (row_fits h)))

/-- What a running count starts a point from: zero at the first point, what it holds at the others. -/
def runBase (i : grid0.Coords) (g : IVec S256 32) : IVec S256 32 := if (i 0).val = 0 then broadcast S256 0#32 else g
/-- A running count after a point. -/
def runNext (p : CmpIPredicate) (i : grid0.Coords) (X : S14x1x1024.Idx → BitVec 32) (g : IVec S256 32) : IVec S256 32 :=
  addi (runBase i g) (blockCount p X 14 le_rfl)

/-! ## The body's run -/

section Whole

variable {κ : Kind} {sp : Space} {s : Shape} {e : EltTy} (v : View sig κ sp s e)

/-- A load of everything a view shows, -/
theorem readAt_all {off : Fin s.rank → ℕ} (h0 : ∀ a, off a = 0) (h : ∀ a, off a + s.size a ≤ s.size a) (f : v.ty.Contents (Elt F)) :
    v.readAt (Elt F) (Rect.unit (s := s) off s.size h).toLoadRect f = v.read (Elt F) f := by
  funext x
  rw [View.readAt_apply]
  refine congrArg (v.read (Elt F) f) (funext fun a => Fin.ext ?_)
  show off a + 1 * (x a).val = (x a).val
  rw [h0 a, Nat.zero_add, Nat.one_mul]

/-- and a store over all of it. -/
theorem read_write_all {off : Fin s.rank → ℕ} (h0 : ∀ a, off a = 0) (h : ∀ a, off a + s.size a ≤ s.size a) (f : v.ty.Contents (Elt F)) (w : s.Idx → Elt F e) :
    v.read (Elt F) (v.writes (Elt F) f [⟨Rect.unit (s := s) off s.size h, w⟩]) = w := by
  funext y
  exact View.read_writes_cons_unit_of_mem v f h w [] y y rfl fun a => by rw [h0 a]; exact (Nat.zero_add _).symm

theorem zero_one : ∀ a : Fin 1, (![0] : Fin 1 → ℕ) a = 0 := by decide
theorem zero_two : ∀ a : Fin 2, (![0, 0] : Fin 2 → ℕ) a = 0 := by decide

end Whole

/-- What the body reads of a running count once its test of the first point is past. -/
theorem base_read {i : grid0.Coords} {b : BitVec 1} (hb : b = 1#1 ↔ (i 0).val = 0) (hr h) {κ : Kind} {sp : Space} (v : View sig κ sp S256 .i32) (f : v.ty.Contents (Elt F)) :
    (shapeCast S256 (v.readAt (Elt F) (Rect.unit (s := S256) ![0] S256.size hr).toLoadRect
        (if _hc : b = 1#1 then v.writes (Elt F) f [⟨Rect.unit (s := S256) ![0] S256.size h, broadcast S256 0#32⟩] else f)) shapeCasts_S256_S256 : IVec S256 32)
      = runBase i (v.read (Elt F) f) := by
  unfold runBase
  rw [readAt_all v zero_one]
  refine (shapeCast_self _ _).trans ?_
  by_cases hi : (i 0).val = 0
  · rw [if_pos hi, dif_pos (hb.2 hi)]
    exact read_write_all v zero_one _ _ _
  · rw [if_neg hi, dif_neg fun h => hi (hb.1 h)]

/-- The body's test of its being at the first point. -/
theorem first_point (i : grid0.Coords) :
    Scalar.cmpi .ne (Scalar.extui (Scalar.cmpi .eq (BitVec.ofNat 32 (i 0).val) 0#32) : BitVec 32) 0#32 = 1#1 ↔ (i 0).val = 0 := by
  have h : (i 0).val < 7 := (i 0).isLt
  generalize (i 0).val = n at h
  revert h
  revert n
  decide

variable [FloatOps F]

/-- A whole buffer's memref owned at what it reads. -/
theorem owns_at (c : Dev nD) {sp : Space} {s : Shape} {e : EltTy} {M : Memref sig .tc sp s e} (h : M.IsWhole) (X : s.Idx → Elt F e) :
    (owns (c : Thread nD τ) M fullShare X : sProp (MM F))
      = iprop(∃ f : Buf (Elt F) (M.view.loc (c : Thread nD τ)), ⌜M.view.read (Elt F) f = X⌝ ∗ (M.view.loc (c : Thread nD τ) ↦{fullShare} f)) := by
  unfold owns
  rw [h.set_eq_univ]

theorem count_body (c : Dev nD) (i : grid0.Coords) (M1 : Memref sig .tc .vmem S14x1x1024 .i32) (h1 : M1.IsWhole) (M2 M3 : Memref sig .tc .vmem S256 .i32)
    (h2 : M2.IsWhole) (h3 : M3.IsWhole) (X : S14x1x1024.Idx → BitVec 32) (g2 g3 : IVec S256 32) (Q : PUnit → sProp (MM F)) :
    iprop(owns (c : Thread nD τ) M1 fullShare X ∗ owns (c : Thread nD τ) M2 fullShare g2 ∗ owns (c : Thread nD τ) M3 fullShare g3
        ∗ (iprop(owns (c : Thread nD τ) M1 fullShare X ∗ owns (c : Thread nD τ) M2 fullShare (runNext .sgt i X g2)
            ∗ owns (c : Thread nD τ) M3 fullShare (runNext .eq i X g3)) -∗ Q ⟨⟩))
      ⊢ wp frame (wpE (defs₀ (F := F)) 𝒱₀ (c : Thread nD τ) none) Set.univ (cc0__count_body i M1 h1 M2 h2 M3 h3) Q := by
  rw [owns_at c h1, owns_at c h2, owns_at c h2, owns_at c h3, owns_at c h3]
  iintro ⟨⟨%f1, %e1, H1⟩, ⟨%f2, %e2, H2⟩, ⟨%f3, %e3, H3⟩, Hk⟩
  subst e1 e2 e3
  sl_exec!
  sl_step
  iapply Hk
  isplitl [H1]
  · iexists f1; isplitr; · ipureintro; rfl
    iexact H1
  isplitl [H2]
  · iexists _; isplitr; swap; · iexact H2
    ipureintro
    exact (read_write_all M2.view zero_one _ _ _).trans (congrArg₂ addi (base_read (first_point i) _ _ M2.view f2) rfl)
  · iexists _; isplitr; swap; · iexact H3
    ipureintro
    exact (read_write_all M3.view zero_one _ _ _).trans (congrArg₂ addi (base_read (first_point i) _ _ M3.view f3) rfl)

end Cert.Proof.Pool

end
-- ==== Proof.Pool.Linear.lean ====
/-
  The linear kernel's body: from the pooled sums and maxima, the segments' sizes, three weights, a matrix and a bias, the
  rows `[w0 · mean, w1 · max, w2 · sum] · Wᵀ + b`.
-/
module

public import proofs.«01_k».proof.Proof.Pool.Count

@[expose] public section

noncomputable section

namespace Cert.Proof.Pool

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F]

/-- The three pooled blocks side by side, scaled by their weights. -/
def combined (S Mx : FVec F S256x512 .f32) (C : IVec S256 32) (w0 w1 w2 : F .f32) : FVec F S256x1536 .f32 :=
  concatenate S256x1536 1
    [⟨S256x512, mulf S (broadcastTo S256x512 (shapeCast S256x1 (divf (broadcast S256 w0)
        (maximumf (sitofp .f32 C) (broadcast S256 (Scalar.ofBits .f32 0x3F800000#32)))) shapeCasts_S256_S256x1) broadcasts_S256x1_S256x512)⟩,
      ⟨S256x512, mulf (broadcast S256x512 w1) Mx⟩, ⟨S256x512, mulf (broadcast S256x512 w2) S⟩]
    concatenates_S256x512_S256x512_S256x512_S256x1536_d1

/-- The kernel's result. -/
def linear (S Mx : FVec F S256x512 .f32) (C : IVec S256 32) (w0 w1 w2 : F .f32) (W : FVec F S512x1536 .f32) (B : FVec F S512 .f32) : FVec F S256x512 .f32 :=
  addf (matmul dot_S256x1536_S512x1536_S256x512_1_1_0_0_n_n none (combined S Mx C w0 w1 w2) W (constant S256x512 .f32 0x00000000#32))
    (broadcastTo S256x512 (shapeCast S1x512 B shapeCasts_S512_S1x512) broadcasts_S1x512_S256x512)

/-- A load of one of three words. -/
theorem readAt_word {κ : Kind} {sp : Space} {e : EltTy} (v : View sig κ sp S3 e) (k : Fin 3) (h : ∀ a, (![k.val] : Fin 1 → ℕ) a + S1.size a ≤ S3.size a)
    (f : v.ty.Contents (Elt F)) (y : S1.Idx) : v.readAt (Elt F) (Rect.unit (s := S3) ![k.val] S1.size h).toLoadRect f y = v.read (Elt F) f (ix1 k) := by
  rw [View.readAt_apply]
  refine congrArg (v.read (Elt F) f) (funext fun a => Fin.ext ?_)
  have hy : (y 0).val < 1 := (y 0).isLt
  fin_cases a
  show k.val + 1 * (y 0).val = k.val
  omega

theorem linear_body (c : Dev nD) (M0 M1 : Memref sig .tc .vmem S256x512 .f32) (h0 : M0.IsWhole) (h1 : M1.IsWhole)
    (M2 : Memref sig .tc .vmem S256 .i32) (h2 : M2.IsWhole) (M3 : Memref sig .tc .smem S3 .f32) (h3 : M3.IsWhole)
    (M4 : Memref sig .tc .vmem S512x1536 .f32) (h4 : M4.IsWhole) (M5 : Memref sig .tc .vmem S512 .f32) (h5 : M5.IsWhole)
    (M6 : Memref sig .tc .vmem S256x512 .f32) (h6 : M6.IsWhole)
    (S Mx : FVec F S256x512 .f32) (C : IVec S256 32) (w : FVec F S3 .f32) (W : FVec F S512x1536 .f32) (B : FVec F S512 .f32) (g : FVec F S256x512 .f32)
    (Q : PUnit → sProp (MM F)) :
    iprop(owns (c : Thread nD τ) M0 fullShare S ∗ owns (c : Thread nD τ) M1 fullShare Mx ∗ owns (c : Thread nD τ) M2 fullShare C
        ∗ owns (c : Thread nD τ) M3 fullShare w ∗ owns (c : Thread nD τ) M4 fullShare W ∗ owns (c : Thread nD τ) M5 fullShare B ∗ owns (c : Thread nD τ) M6 fullShare g
        ∗ (iprop(owns (c : Thread nD τ) M0 fullShare S ∗ owns (c : Thread nD τ) M1 fullShare Mx ∗ owns (c : Thread nD τ) M2 fullShare C
            ∗ owns (c : Thread nD τ) M3 fullShare w ∗ owns (c : Thread nD τ) M4 fullShare W ∗ owns (c : Thread nD τ) M5 fullShare B
            ∗ owns (c : Thread nD τ) M6 fullShare (linear S Mx C (w (ix1 0)) (w (ix1 1)) (w (ix1 2)) W B)) -∗ Q ⟨⟩))
      ⊢ wp frame (wpE (defs₀ (F := F)) 𝒱₀ (c : Thread nD τ) none) Set.univ (cc2__linear_body M0 h0 M1 h1 M2 h2 M3 h3 M4 h4 M5 h5 M6 h6) Q := by
  rw [owns_at c h0, owns_at c h1, owns_at c h2, owns_at c h3, owns_at c h4, owns_at c h5, owns_at c h6, owns_at c h6]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, Hk⟩
  subst e0 e1 e2 e3 e4 e5 e6
  sl_exec!
  sl_step
  iapply Hk
  isplitl [H0]; · iexists f0; isplitr; swap; · iexact H0
                  ipureintro; rfl
  isplitl [H1]; · iexists f1; isplitr; swap; · iexact H1
                  ipureintro; rfl
  isplitl [H2]; · iexists f2; isplitr; swap; · iexact H2
                  ipureintro; rfl
  isplitl [H3]; · iexists f3; isplitr; swap; · iexact H3
                  ipureintro; rfl
  isplitl [H4]; · iexists f4; isplitr; swap; · iexact H4
                  ipureintro; rfl
  isplitl [H5]; · iexists f5; isplitr; swap; · iexact H5
                  ipureintro; rfl
  iexists _; isplitr; swap; · iexact H6
  ipureintro
  refine (read_write_all M6.view zero_two _ _ _).trans ?_
  unfold linear combined
  rw [← readAt_all M0.view zero_two inb_S256x512_S256x512_0_0, ← readAt_all M1.view zero_two inb_S256x512_S256x512_0_0,
    ← readAt_all M2.view zero_one inb_S256_S256_0, ← readAt_all M4.view zero_two inb_S512x1536_S512x1536_0_0, ← readAt_all M5.view zero_one inb_S512_S512_0,
    ← shapeCast_self (View.readAt (Elt F) M0.view _ f0) shapeCasts_S256x512_S256x512,
    ← shapeCast_self (View.readAt (Elt F) M1.view _ f1) shapeCasts_S256x512_S256x512,
    ← shapeCast_self (View.readAt (Elt F) M2.view _ f2) shapeCasts_S256_S256]
  have e0 : linear_body.sl.r c M3 f3 = M3.view.read (Elt F) f3 (ix1 0) := readAt_word M3.view 0 _ f3 _
  have e1 : linear_body.sl.r_1 c M3 f3 = M3.view.read (Elt F) f3 (ix1 1) := readAt_word M3.view 1 _ f3 _
  have e2 : linear_body.sl.r_2 c M3 f3 = M3.view.read (Elt F) f3 (ix1 2) := readAt_word M3.view 2 _ f3 _
  rw [← e0, ← e1, ← e2]
  rfl

end Cert.Proof.Pool

end
-- ==== Proof.Pool.Region.lean ====
/-
  The two TensorCore kernels as regions of @main: what each leaves in its arrays, and the state of the main thread around
  it: a set of buffers held at some contents, and what the thread still owes.
-/
module

public import proofs.«01_k».proof.Proof.Pool.Linear
public import Idealize.ShloMosaic.Lib.Pipeline.RegionArraysS
public import Idealize.ShloMosaic.Lib.Pipeline.ValueKit

@[expose] public section

noncomputable section

namespace Cert.Proof.Pool

open Cert.KernelIdeal Cert.KernelIdeal.Gen

open Idealize.ShloMosaic Idealize.ShloMosaic.TcCoe
open Idealize.ShloMosaic.SparseCore.Cfg (HIx)
open Idealize.ShloMosaic.Pipeline (Dat BodyObligation arrRefs arrRef)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F]

/-- The contents of a device's buffers. -/
abbrev Val (F : FTy → Type) := Valuation τ sig (Elt F)

/-- What a region's waits may have recorded: nothing above the level its call number allows. -/
abbrev below (c : Dev nD) (n : ℕ) : Set (SemLoc sig × HIx 1) :=
  {p | (K (F := F)).lev ((c : Thread nD τ), p.1) p.2 ≤ 8 * n}

/-! ## The counting region -/

/-- A point of the counting grid by its number. -/
def pt0 (n : ℕ) : Fin cfg0.N := ⟨n % 7, N_0 ▸ Nat.mod_lt n (by decide)⟩
/-- The ids the kernel reads there, of the padded ids laid out 98 × 1024. -/
def idBlock (ids : S98x1x1024.Idx → BitVec 32) (t : Fin cfg0.N) : S14x1x1024.Idx → BitVec 32 := (win0_0.blk t).view.read (Elt F) ids
/-- A count after `n` points. -/
def running (p : CmpIPredicate) (ids : S98x1x1024.Idx → BitVec 32) : ℕ → IVec S256 32
  | 0 => broadcast S256 0#32
  | n + 1 => runNext p (grid0.coords (pt0 n)) (idBlock (F := F) ids (pt0 n)) (running p ids n)

def dat0 (n : ℕ) (W : Val F) (c : Dev nD) : Dat τ (Elt F) (HIx 1) ℕ UU ℕ cfg0 c where
  A w := W (Proc.devRef .tc (arrRef spec0 w))
  after w t := match w with
    | ⟨0, _⟩ => idBlock (F := F) (W (Proc.devRef .tc main_v2)) t
    | ⟨1, _⟩ => running (F := F) .sgt (W (Proc.devRef .tc main_v2)) (t.val + 1)
    | ⟨2, _⟩ => running (F := F) .eq (W (Proc.devRef .tc main_v2)) (t.val + 1)
  Φ _ := Pipeline.scopedRest spec0 c
  q _ := fullShare
  owed _ := (K (F := F)).Otc c n
  recorded _ := below (F := F) c n

theorem at_zero {i s y : ℕ} (h : i = 0) : i * s + y = y := by rw [h, Nat.zero_mul, Nat.zero_add]

theorem coords0 (t : Fin cfg0.N) : ((grid0.coords t) 0).val = t.val := by
  rcases fin_N0 t with h | h | h | h | h | h | h <;> subst h <;> decide

theorem pt0_val (t : Fin cfg0.N) : pt0 t.val = t := Fin.ext (Nat.mod_eq_of_lt (N_0 ▸ t.isLt))

theorem body0 (n : ℕ) (W : Val F) (c : Dev nD) : BodyObligation (dat0 n W c) (defs₀ (F := F)) 𝒱₀ none Set.univ := fun t => by
  rw [bigSep_W0, bigSep_W0]
  rw [show (dat0 n W c).Φ t.castSucc = Pipeline.scopedRest spec0 c from rfl, show (dat0 n W c).Φ t.succ = Pipeline.scopedRest spec0 c from rfl,
    show (dat0 n W c).owesAt none t.succ = (dat0 n W c).owesAt none t.castSucc from rfl]
  have hb : ∀ d, (dat0 n W c).before 0 t d = idBlock (F := F) (W (Proc.devRef .tc main_v2)) t := fun d => (Dat.before_fetched _ 0 t (fetch0_0 t) d).trans rfl
  have hrun : ∀ (p : CmpIPredicate) (g : IVec S256 32), (t.val ≠ 0 → g = running (F := F) p (W (Proc.devRef .tc main_v2)) t.val) →
      runNext p (grid0.coords t) (idBlock (F := F) (W (Proc.devRef .tc main_v2)) t) g = running (F := F) p (W (Proc.devRef .tc main_v2)) (t.val + 1) := fun p g hg => by
    rw [running, pt0_val]
    by_cases h0 : t.val = 0
    · unfold runNext runBase
      rw [if_pos ((coords0 t).trans h0), if_pos ((coords0 t).trans h0)]
    · rw [hg h0]
  have hl : ∀ (h0 : t.val ≠ 0), ¬ (t.val - 1) % 7 = 6 := fun h0 => by have : t.val < 7 := N_0 ▸ t.isLt; omega
  have h1 : ∀ d, t.val ≠ 0 → (dat0 n W c).before 1 t d = running (F := F) .sgt (W (Proc.devRef .tc main_v2)) t.val := fun d h0 => by
    rw [Dat.before_out_kept (dat0 n W c) 1 rfl t h0 (Bool.eq_false_iff.mpr fun h => hl h0 ((flush0_1 _).mp h)) (fun _ => rfl) (fun _ _ => rfl)]
    dsimp only [dat0]
    rw [Nat.sub_add_cancel (Nat.pos_of_ne_zero h0)]
  have h2 : ∀ d, t.val ≠ 0 → (dat0 n W c).before 2 t d = running (F := F) .eq (W (Proc.devRef .tc main_v2)) t.val := fun d h0 => by
    rw [Dat.before_out_kept (dat0 n W c) 2 rfl t h0 (Bool.eq_false_iff.mpr fun h => hl h0 ((flush0_2 _).mp h)) (fun _ => rfl) (fun _ _ => rfl)]
    dsimp only [dat0]
    rw [Nat.sub_add_cancel (Nat.pos_of_ne_zero h0)]
  iintro ⟨HΦ, HO, ⟨%d0, H0⟩, ⟨%d1, H1⟩, ⟨%d2, H2⟩⟩
  iapply (count_body c (grid0.coords t) _ (hstage0_0 ((cfg0.slots t 0).cast nbuf0_0)) _ _ (hstage0_1 ((cfg0.slots t 1).cast nbuf0_1))
    (hstage0_2 ((cfg0.slots t 2).cast nbuf0_2)) (idBlock (F := F) (W (Proc.devRef .tc main_v2)) t) ((dat0 n W c).before 1 t d1) ((dat0 n W c).before 2 t d2) _)
  isplitl [H0]; · rw [← hb d0]; iexact H0
  isplitl [H1]; · iexact H1
  isplitl [H2]; · iexact H2
  rw [hrun .sgt _ (h1 d1), hrun .eq _ (h2 d2)]
  iintro ⟨H0, H1, H2⟩
  isplitl [HΦ]; · iexact HΦ
  isplitl [HO]; · iexact HO
  isplitl [H0]; · iexact H0
  isplitl [H1]; · iexact H1
  iexact H2

/-! ## The linear region -/

/-- The linear kernel's result from the contents it is entered with. -/
def linearOf (W : Val F) : FVec F S256x512 .f32 :=
  linear (W (Proc.devRef .tc main_v6_0)) (W (Proc.devRef .tc main_v6_1)) (W (Proc.devRef .tc main_v3_1))
    ((W (Proc.devRef .tc main_arg2) : FVec F S3 .f32) (ValueIdx.ix1 0)) ((W (Proc.devRef .tc main_arg2) : FVec F S3 .f32) (ValueIdx.ix1 1)) ((W (Proc.devRef .tc main_arg2) : FVec F S3 .f32) (ValueIdx.ix1 2))
    (W (Proc.devRef .tc main_arg3)) (W (Proc.devRef .tc main_arg4))

/-- The scoped buffers the region does not stage. -/
@[irreducible] def rest2 (c : Dev nD) : sProp (MM F) := Pipeline.scopedRest (pcfgs (F := F) 1).spec c

def dat2 (n : ℕ) (W : Val F) (c : Dev nD) : Dat τ (Elt F) (HIx 1) ℕ UU ℕ cfg2 c where
  A w := W (Proc.devRef .tc (arrRef spec2 w))
  after w _ := match w with
    | ⟨0, _⟩ => W (Proc.devRef .tc main_v6_0)
    | ⟨1, _⟩ => W (Proc.devRef .tc main_v6_1)
    | ⟨2, _⟩ => W (Proc.devRef .tc main_v3_1)
    | ⟨3, _⟩ => W (Proc.devRef .tc main_arg2)
    | ⟨4, _⟩ => W (Proc.devRef .tc main_arg3)
    | ⟨5, _⟩ => W (Proc.devRef .tc main_arg4)
    | ⟨6, _⟩ => linearOf W
  Φ _ := rest2 (F := F) c
  q _ := fullShare
  owed _ := (K (F := F)).Otc c n
  recorded _ := below (F := F) c n

theorem body2 (n : ℕ) (W : Val F) (c : Dev nD) : BodyObligation (dat2 n W c) (defs₀ (F := F)) 𝒱₀ none Set.univ := fun t => by
  rw [bigSep_W2, bigSep_W2]
  rw [show (dat2 n W c).Φ t.castSucc = rest2 (F := F) c from rfl, show (dat2 n W c).Φ t.succ = rest2 (F := F) c from rfl,
    show (dat2 n W c).owesAt none t.succ = (dat2 n W c).owesAt none t.castSucc from rfl]
  have h0 : ∀ d, (dat2 n W c).before 0 t d = W (Proc.devRef .tc main_v6_0) := fun d => (Dat.before_fetched _ 0 t (fetch2_0 t) d).trans (funext fun y => congrArg (W (Proc.devRef .tc main_v6_0)) (funext fun a => Fin.ext (by blk_simp; exact at_zero rfl)))
  have h1 : ∀ d, (dat2 n W c).before 1 t d = W (Proc.devRef .tc main_v6_1) := fun d => (Dat.before_fetched _ 1 t (fetch2_1 t) d).trans (funext fun y => congrArg (W (Proc.devRef .tc main_v6_1)) (funext fun a => Fin.ext (by blk_simp; exact at_zero rfl)))
  have h2 : ∀ d, (dat2 n W c).before 2 t d = W (Proc.devRef .tc main_v3_1) := fun d => (Dat.before_fetched _ 2 t (fetch2_2 t) d).trans (funext fun y => congrArg (W (Proc.devRef .tc main_v3_1)) (funext fun a => Fin.ext (by blk_simp; exact at_zero rfl)))
  have h3 : ∀ d, (dat2 n W c).before 3 t d = W (Proc.devRef .tc main_arg2) := fun d => (Dat.before_fetched _ 3 t (fetch2_3 t) d).trans (funext fun y => congrArg (W (Proc.devRef .tc main_arg2)) (funext fun a => Fin.ext (by blk_simp; exact at_zero rfl)))
  have h4 : ∀ d, (dat2 n W c).before 4 t d = W (Proc.devRef .tc main_arg3) := fun d => (Dat.before_fetched _ 4 t (fetch2_4 t) d).trans (funext fun y => congrArg (W (Proc.devRef .tc main_arg3)) (funext fun a => Fin.ext (by blk_simp; exact at_zero rfl)))
  have h5 : ∀ d, (dat2 n W c).before 5 t d = W (Proc.devRef .tc main_arg4) := fun d => (Dat.before_fetched _ 5 t (fetch2_5 t) d).trans (funext fun y => congrArg (W (Proc.devRef .tc main_arg4)) (funext fun a => Fin.ext (by blk_simp; exact at_zero rfl)))
  iintro ⟨HΦ, HO, ⟨%d0, H0⟩, ⟨%d1, H1⟩, ⟨%d2, H2⟩, ⟨%d3, H3⟩, ⟨%d4, H4⟩, ⟨%d5, H5⟩, ⟨%d6, H6⟩⟩
  iapply (linear_body c _ _ (hstage2_0 0) (hstage2_1 0) _ (hstage2_2 0) _ (hstage2_3 0) _ (hstage2_4 0) _ (hstage2_5 0) _ (hstage2_6 0)
    (W (Proc.devRef .tc main_v6_0)) (W (Proc.devRef .tc main_v6_1)) (W (Proc.devRef .tc main_v3_1)) (W (Proc.devRef .tc main_arg2))
    (W (Proc.devRef .tc main_arg3)) (W (Proc.devRef .tc main_arg4)) ((dat2 n W c).before 6 t d6) _)
  isplitl [H0]; · rw [← h0 d0]; iexact H0
  isplitl [H1]; · rw [← h1 d1]; iexact H1
  isplitl [H2]; · rw [← h2 d2]; iexact H2
  isplitl [H3]; · rw [← h3 d3]; iexact H3
  isplitl [H4]; · rw [← h4 d4]; iexact H4
  isplitl [H5]; · rw [← h5 d5]; iexact H5
  isplitl [H6]; · iexact H6
  iintro ⟨H0, H1, H2, H3, H4, H5, H6⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-! ## What the regions leave -/

theorem count_lt (n : ℕ) (W : Val F) (c : Dev nD) :
    (dat0 n W c).arrAt 1 cfg0.N = running (F := F) .sgt (W (Proc.devRef .tc main_v2)) 7 := by
  refine (dat0 n W c).arrAt_eq_of_after_last 1 t0_6 (by decide +kernel) _ fun j => ?_
  blk_simp
  rfl

theorem count_eq (n : ℕ) (W : Val F) (c : Dev nD) :
    (dat0 n W c).arrAt 2 cfg0.N = running (F := F) .eq (W (Proc.devRef .tc main_v2)) 7 := by
  refine (dat0 n W c).arrAt_eq_of_after_last 2 t0_6 (by decide +kernel) _ fun j => ?_
  blk_simp
  rfl

theorem linear_out (n : ℕ) (W : Val F) (c : Dev nD) : (dat2 n W c).arrAt 6 cfg2.N = linearOf W := by
  refine (dat2 n W c).arrAt_eq_of_after_last 6 t2_0 (by decide +kernel) _ fun j => ?_
  blk_simp
  rfl

/-! ## The regions -/

section Seg

open Idealize.ShloMosaic.Pipeline (RegionSeg pin cellsWaits scopedRest)

/-- The pipelines prefetch no table. -/
abbrev adm : (p : Fin 2) → (pcfgs (F := F) p).Adm := fun p => (cfgs p).toPCfg_adm

variable (pdats : (p : Fin 2) → (c : Dev nD) → Dat τ (Elt F) (HIx 1) ℕ UU ℕ (pin (pcfgs (F := F)) adm p) c)

/-- The main thread around a region of call number `n`: the buffers `S` at `W`, and what it owes the SparseCore, its waits
    recorded no higher than that call allows. -/
def around (n : ℕ) (S : Finset (DevRef τ sig)) (W : Val F) (c : Dev nD) : sProp (MM F) :=
  iprop(StableHlo.held (c.tc : Thread nD τ) S W
    ∗ ∃ Wd, ⌜(K (F := F)).WBelow (c : Thread nD τ) Wd (8 * n)⌝ ∗ owes (c : Thread nD τ) ((K (F := F)).Otc c n) Wd)

theorem Otc_none (c : Dev nD) (n : ℕ) (g : GSem nD τ sig) : (K (F := F)).Otc c n g none = 0 := by
  rcases Nat.eq_zero_or_pos ((K (F := F)).Otc c n g none) with h | h
  · exact h
  · exact absurd ((K (F := F)).lev_of_Otc_pos h) (by rw [show (K (F := F)).lev g none = 0 from rfl]; omega)

set_option backward.isDefEq.respectTransparency.types false in
/-- Region `p` between those states, given its body obligation and proof data that owe what the thread owes. -/
def regionSeg (p : Fin 2) (n : ℕ) (kit : Pipeline.PLaunchFacts (nD := nD) (τ := τ) (pcfgs (F := F)) p) (hK : (pcfgs (F := F) p).pre.K = 0)
    (S : Finset (DevRef τ sig)) (hS : arrRefs (pcfgs (F := F) p).spec ⊆ S)
    (hbody : ∀ c, BodyObligation (pdats p c) (defs₀ (F := F)) 𝒱₀ none Set.univ)
    (howed : ∀ c t, (pdats p c).owed t = (K (F := F)).Otc c n) (hrec : ∀ c t, (pdats p c).recorded t = below (F := F) c n)
    (hΦ : ∀ c t, (pdats p c).Φ t = scopedRest (pcfgs (F := F) p).spec c) (hshare : ∀ c w, (pdats p c).share w = fullShare)
    (W : Dev nD → Val F) (hA : ∀ c w, (pdats p c).arrAt w 0 = W c (Proc.devRef .tc (arrRef (pin (pcfgs (F := F)) adm p).spec w))) :
    RegionSeg (pcfgs (F := F)) adm pdats none (defs₀ (F := F)) 𝒱₀ (K (F := F)).L (K (F := F)).lev p where
  win := kit.to₀.win
  block_pos := kit.to₀.block_pos
  stage_whole := kit.to₀.stage_whole
  K := PEmpty
  osem k := k.elim
  ho := Pipeline.OwnSemFacts.none _
  hbody c := (hbody c).loose
  hwaits c := Pipeline.cellsWaits_intro (pin (pcfgs (F := F)) adm) pdats none p c fun w s t => by
    rw [howed]; exact (K (F := F)).mayWait_none _ (Otc_none c n)
  pre c := around n S (W c) c
  post c := around n S (Pipeline.afterRegion (pdats p c) (W c)) c
  X _ := iprop(emp)
  Y _ := iprop(emp)
  Z c := StableHlo.held (c.tc : Thread nD τ) (S \ arrRefs (pcfgs (F := F) p).spec) (W c)
  hentry c := by
    rw [Pipeline.ownSems0_none, Pipeline.prefHeld_of_none _ hK, Pipeline.arrays_held pcfgs adm pdats p kit c (hshare c) _ (W c) (hA c)]
    unfold around
    rw [StableHlo.held_sub_split (c.tc : Thread nD τ) hS (W c)]
    iintro ⟨⟨⟨Ha, HZ⟩, %Wd, %hWd, HO⟩, -, -⟩
    imodintro
    isplitl [Ha]; · iexact Ha
    isplitr; · iempintro
    isplitl [HO]
    · unfold Dat.owesAt Pipeline.owesWithin Dat.bound
      rw [howed c 0, hrec c 0]
      iexists Wd
      isplitr
      · ipureintro; exact fun p hp => Or.inl (hWd p hp)
      iexact HO
    isplitr; · iempintro
    iexact HZ
  hin c := by
    rw [hΦ]
    iintro ⟨-, -, Hr⟩
    iexact Hr
  hout c := by
    rw [hΦ, Pipeline.ownSems0_none]
    iintro Hr
    isplitr; · iempintro
    isplitr; · iempintro
    iexact Hr
  hexit c := by
    rw [Pipeline.arrays_held pcfgs adm pdats p kit c (hshare c) _ (Pipeline.afterRegion (pdats p c) (W c))
      fun w => (Pipeline.afterRegion_arr (pdats p c) (W c) kit.win.arr_inj w).symm]
    unfold around
    rw [StableHlo.held_sub_split (c.tc : Thread nD τ) hS (Pipeline.afterRegion (pdats p c) (W c)),
      StableHlo.held_congr (c.tc : Thread nD τ) (S := S \ arrRefs (pcfgs (F := F) p).spec) (V := Pipeline.afterRegion (pdats p c) (W c)) (V' := W c)
        (Pipeline.afterRegion_off (pdats p c) (W c) S)]
    iintro ⟨Ha, HO, -, HZ⟩
    imodintro
    isplitl [Ha HZ]
    · isplitl [Ha]; · iexact Ha
      iexact HZ
    unfold Dat.owesAt Pipeline.owesWithin Dat.bound
    rw [howed, hrec]
    icases HO with ⟨%Wd, %hWd, HO⟩
    iexists Wd
    isplitr
    · ipureintro
      intro q hq
      rcases hWd hq with h | ⟨w, s, rfl⟩
      · exact h
      · exact Nat.zero_le _
    iexact HO

end Seg

/-- The proof data of the two pipelines: the counting entered at `W0` before the pooling call, the linear one at `W2` after it. -/
def pdats (W0 W2 : Dev nD → Val F) : (p : Fin 2) → (c : Dev nD) → Dat τ (Elt F) (HIx 1) ℕ UU ℕ (Pipeline.pin (pcfgs (F := F)) adm p) c
  | ⟨0, _⟩ => fun c => dat0 0 (W0 c) c
  | ⟨1, _⟩ => fun c => dat2 1 (W2 c) c

end Cert.Proof.Pool

end
-- ==== Proof.Pool.Row.lean ====
/-
  One row of a chunk added into the sums and maxima, and the loop over a chunk's rows.
-/
module

public import proofs.«01_k».proof.Proof.Pool.Base

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Affine (IsInt)

variable {F : FTy → Type} [FloatOps F]

/-! ## The program's text -/

theorem row_inb {off : Fin 2 → ℕ} {r j : ℕ} (h0 : off 0 = r) (h1 : off 1 = 16 * j) (hr : r < 72) (hj : j < 16) :
    ∀ a, off a + S1x16.size a ≤ S72x256.size a := by
  intro a
  match a with
  | 0 => show off 0 + 1 ≤ 72; omega
  | 1 => show off 1 + 16 ≤ 256; omega

/-- Sixteen lanes of row `r` of the copied block `buf`, from column `16 j`. -/
def laneR (r j : ℕ) (hr : r < 72) (hj : j < 16) : Rect S72x256 :=
  Rect.unit (s := S72x256) ![r, 16 * j] S1x16.size (row_inb rfl rfl hr hj)

/-- What a load of those lanes reads of the block `w`. -/
def lanes (w : S72x256.Idx → F .f32) (r j : ℕ) (hr : r < 72) (hj : j < 16) : Vec F S1x16 .f32 := fun x => w ((laneR r j hr hj).toLoadRect.idx x)

/-- The first `n` loads of a row, what they read handed to `k`. -/
def rowLoads {R : Type} (L : grid1.Coords) (buf : Memref sig .scVector .vmem S72x256 .f32) (r : ℕ) (hr : r < 72) :
    (n : ℕ) → n ≤ 16 → ((Fin n → Vec F S1x16 .f32) → Prog (TE F L) R) → Prog (TE F L) R
  | 0, _, k => k Fin.elim0
  | n + 1, hn, k => rowLoads L buf r hr n (by omega) fun g =>
      Prog.lift (.load buf (laneR r n hr hn).toLoadRect (View.loadsAt_vmem h_S1x16)) >>= fun v => k (Fin.snoc (α := fun _ => Vec F S1x16 .f32) g v)

/-- One row added into what the loop carries. -/
def rowBody (L : grid1.Coords) (buf : Memref sig .scVector .vmem S72x256 .f32) (r : ℕ) (hr : r < 72) (acc : Acc F) : Prog (TE F L) (Acc F) :=
  rowLoads L buf r hr 16 le_rfl fun v => pure (tup
    (fun j => addf (sums acc j) (shapeCast S16 (v j) shapeCasts_S1x16_S16))
    (fun j => maximumf (maxs acc j) (shapeCast S16 (v j) shapeCasts_S1x16_S16)))

/-! ## What it does -/

variable (d : Dev nD) (L : grid1.Coords)

theorem wp_rowLoads {R : Type} (buf : Memref sig .scVector .vmem S72x256 .f32) (r : ℕ) (hr : r < 72) (f : Buf (Elt F) (buf.view.loc (thr d L)))
    (w : S72x256.Idx → F .f32) (hf : buf.view.read (Elt F) f = w) (Q : R → sProp (MM F)) :
    ∀ (n : ℕ) (hn : n ≤ 16) (k : (Fin n → Vec F S1x16 .f32) → Prog (TE F L) R),
      (buf.view.loc (thr d L) ↦[Finset.univ]{fullShare} f : sProp (MM F))
        ⊢ iprop(((buf.view.loc (thr d L) ↦[Finset.univ]{fullShare} f)
            -∗ wp frame (wpE (defs₀ (F := F)) 𝒱₀ (thr d L) none) Set.univ
                (k fun j => lanes w r j.val hr (by omega)) Q)
          -∗ wp frame (wpE (defs₀ (F := F)) 𝒱₀ (thr d L) none) Set.univ (rowLoads L buf r hr n hn k) Q)
  | 0, hn, k => by
    iintro H Hk
    ispecialize Hk $$ H
    rw [show (fun (j : Fin 0) => lanes w r j.val hr (by omega)) = (Fin.elim0 : Fin 0 → Vec F S1x16 .f32) from funext fun j => j.elim0]
    iexact Hk
  | n + 1, hn, k => by
    iintro H Hk
    rw [rowLoads]
    iapply (wp_rowLoads buf r hr f w hf Q n _ _) $$ H
    iintro H
    iapply (wp_load 𝒱₀ (thr d L) none Set.univ (Finset.subset_univ _)) $$ H
    iintro H
    ispecialize Hk $$ H
    have e : (Fin.snoc (α := fun _ => Vec F S1x16 .f32) (fun j => lanes w r j.val hr (by omega))
          (buf.view.readAt (Elt F) (laneR r n hr hn).toLoadRect f))
        = (fun (j : Fin (n + 1)) => lanes w r j.val hr (by omega)) := by
      subst hf
      funext j
      refine Fin.lastCases ?_ (fun j => ?_) j
      · exact (Fin.snoc_last (α := fun _ => Vec F S1x16 .f32) _ _).trans rfl
      · exact (Fin.snoc_castSucc (α := fun _ => Vec F S1x16 .f32) _ _ _).trans rfl
    rw [← e]
    iexact Hk

/-- A row's sixteen lanes of the block of `x` copied from row `s`, column `c`. -/
theorem lanes_blk (X : S100000x512.Idx → F .f32) (s c r : ℕ) (hr : r < 72) (j : Fin 16) :
    shapeCast S16 (lanes (blk X s c) r j.val hr j.isLt) shapeCasts_S1x16_S16 = rowVec X (s + r) (c + 16 * j.val) := by
  funext l
  obtain ⟨i, rfl⟩ : ∃ i : Fin 16, l = ix1 i := ⟨l 0, funext fun a => match a with | 0 => rfl⟩
  refine (shapeCast_1a_a_apply _ _ i).trans ?_
  show atRC X (s + (r + 1 * 0)) (c + (16 * j.val + 1 * i.val)) = atRC X (s + r) (c + 16 * j.val + i.val)
  congr 1; omega

/-- A scratch buffer of one tile holding the block `w`. -/
def Holds (buf : Memref sig .scVector .vmem S72x256 .f32) (w : S72x256.Idx → F .f32) : sProp (MM F) :=
  iprop(∃ f, (buf.view.loc (thr d L) ↦[Finset.univ]{fullShare} f) ∗ ⌜buf.view.read (Elt F) f = w⌝)

/-- One row: from the block copied from row `s`, with what the first `n` rows of the segment make, to what the first
    `n + 1` make, where row `r` of the block is row `a + n` of `x`. -/
theorem wp_rowBody (buf : Memref sig .scVector .vmem S72x256 .f32) (X : S100000x512.Idx → F .f32) (s c a n r : ℕ) (hr : r < 72)
    (hrow : s + r = a + n) (Q : Acc F → sProp (MM F)) :
    iprop(Holds d L buf (blk X s c) ∗ (Holds d L buf (blk X s c) -∗ Q (accT X a c (n + 1))))
      ⊢ wp frame (wpE (defs₀ (F := F)) 𝒱₀ (thr d L) none) Set.univ (rowBody L buf r hr (accT X a c n)) Q := by
  unfold Holds
  iintro ⟨⟨%f, H, %hf⟩, HQ⟩
  unfold rowBody
  iapply (wp_rowLoads d L buf r hr f _ hf Q 16 le_rfl _) $$ H
  iintro H
  have e : tup (fun j => addf (sums (accT X a c n) j) (shapeCast S16 (lanes (blk X s c) r j.val hr j.isLt) shapeCasts_S1x16_S16))
      (fun j => maximumf (maxs (accT X a c n) j) (shapeCast S16 (lanes (blk X s c) r j.val hr j.isLt) shapeCasts_S1x16_S16)) = accT X a c (n + 1) := by
    have hl := fun j : Fin 16 => (lanes_blk X s c r hr j).trans (congrArg (fun m => rowVec X m (c + 16 * j.val)) hrow)
    simp only [accT, sums_tup, maxs_tup]
    exact congrArg₂ tup (funext fun j => congrArg (addf _) (hl j)) (funext fun j => congrArg (maximumf _) (hl j))
  rw [e]
  sl_step
  iapply HQ
  iexists f
  isplitl [H]; · iexact H
  ipureintro; exact hf

/-- The loop over the rows of chunk `k`, of the segment `[a, b)`. -/
theorem wp_rowLoop (buf : Memref sig .scVector .vmem S72x256 .f32) (X : S100000x512.Idx → F .f32) {r0 r1 c : BitVec 32} {a b k : ℕ} (col : ℕ)
    (ha : IsInt r0 a) (hb : IsInt r1 b) (hab : a ≤ b) (hbN : b ≤ 100000) (hc : IsInt c k) (hk : k ≤ 4000)
    (hok : (rowLoop r0 r1 c).OK) (hr : ∀ t : Fin (rowLoop r0 r1 c).trips, (rowW r0 c t).toNat < 72) (n n' : ℕ) (hn : a + n = a + 64 * k)
    (hn' : n' = n + min 64 (b - (a + 64 * k)))
    (p : Prog (TE F L) (Acc F)) (hp : p = Scf.Loop.for (rowLoop r0 r1 c) hok (accT X a col n) fun t acc => rowBody L buf (rowW r0 c t).toNat (hr t) acc)
    (Q : Acc F → sProp (MM F)) :
    iprop(Holds d L buf (blk X (copyRow (a + 64 * k)) col) ∗ (Holds d L buf (blk X (copyRow (a + 64 * k)) col) -∗ Q (accT X a col n')))
      ⊢ wp frame (wpE (defs₀ (F := F)) 𝒱₀ (thr d L) none) Set.univ p Q := by
  subst hp
  have htr := row_trips ha hb hab hbN hc hk
  have hbody : ∀ (t : Fin (rowLoop r0 r1 c).trips) (acc : Acc F),
      iprop(Holds d L buf (blk X (copyRow (a + 64 * k)) col) ∗ ⌜acc = accT X a col (n + t.val)⌝)
        ⊢ wp frame (wpE (defs₀ (F := F)) 𝒱₀ (thr d L) none) Set.univ (rowBody L buf (rowW r0 c t).toNat (hr t) acc)
            fun acc => iprop(Holds d L buf (blk X (copyRow (a + 64 * k)) col) ∗ ⌜acc = accT X a col (n + (t.val + 1))⌝) := by
    intro t acc
    have ht : t.val < min 64 (b - (a + 64 * k)) := htr ▸ t.isLt
    have hrow := copyRow_row (x := a + 64 * k) (t := t.val) (by omega) (by omega)
    iintro ⟨H, %hacc⟩
    subst hacc
    iapply (wp_rowBody d L buf X (copyRow (a + 64 * k)) col a (n + t) _ (hr t) (by
      rw [rowW_nat ha hc (by omega) (by omega)]; omega) _)
    isplitl [H]; · iexact H
    iintro H
    isplitl [H]; · iexact H
    ipureintro; rfl
  have key := fun Q : Acc F → sProp (MM F) => (Scf.wp_for frame (wpE (defs₀ (F := F)) 𝒱₀ (thr d L) none) Set.univ (rowLoop r0 r1 c).lb (rowLoop r0 r1 c).ub (rowLoop r0 r1 c).st hok
    (accT X a col n) (fun t acc => rowBody L buf (rowW r0 c t).toNat (hr t) acc)
    (fun t acc => iprop(Holds d L buf (blk X (copyRow (a + 64 * k)) col) ∗ ⌜acc = accT X a col (n + t)⌝)) hbody (Q := Q))
  iintro ⟨H, HQ⟩
  iapply (key Q)
  isplitl [H]
  · isplitl [H]; · iexact H
    ipureintro; rfl
  iintro %acc' ⟨H, %hacc⟩
  have e : acc' = accT X a col n' := by
    rw [hacc, hn']; exact congrArg (fun m => accT X a col (n + m)) htr
  rw [e]
  iapply HQ $$ H

end Cert.Proof.Pool
-- ==== Proof.Pool.Stage.lean ====
/-
  A chunk's copy into its buffer: the wait for it, the start of the next one, and what one tile holds between the two. At
  most one copy of `x` is under way at a time.
-/
module

public import proofs.«01_k».proof.Proof.Pool.Row

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Affine (IsInt)

variable {F : FTy → Type} [FloatOps F]

/-! ## The program's text -/

/-- The offsets of the copy of the chunk beginning at row `x`. -/
def fetchOff (L : grid1.Coords) (x : BitVec 32) : Fin 2 → ℕ := ![(copyW x).toNat, (colW (L 0).val (L 1).val).toNat]
/-- The part of `x` that copy brings. -/
def fetchSrc (off : Fin 2 → ℕ) (inb : ∀ a, off a + S72x256.size a ≤ S100000x512.size a) : Memref sig .scVector .hbm S72x256 .f32 :=
  xM.slice (Rect.unit (s := S100000x512) off S72x256.size inb) (fun _ => rfl)

def startCopy (L : grid1.Coords) (buf : Memref sig .scVector .vmem S72x256 .f32) (hbuf : buf.IsWhole) (sem : DmaSems sig S_)
    (off : Fin 2 → ℕ) (inb : ∀ a, off a + S72x256.size a ≤ S100000x512.size a) : Prog (TE F L) PUnit :=
  Prog.lift (.enqueueDma (fetchSrc off inb) (.here buf) (.dma sem.sem) (View.wordExact_bits rfl) hbuf.wordExact ⟨Or.inl rfl, trivial⟩)

def awaitCopy (L : grid1.Coords) (buf : Memref sig .scVector .vmem S72x256 .f32) (hbuf : buf.IsWhole) (sem : DmaSems sig S_)
    (off : Fin 2 → ℕ) (inb : ∀ a, off a + S72x256.size a ≤ S100000x512.size a) : Prog (TE F L) PUnit :=
  Prog.lift (.waitDma2 sem.sem (fetchSrc off inb) buf (View.wordExact_bits rfl) hbuf.wordExact)

/-- The copy started where a condition holds, and then `K`. -/
def startIf {R : Type} (L : grid1.Coords) (buf : Memref sig .scVector .vmem S72x256 .f32) (hbuf : buf.IsWhole) (sem : DmaSems sig S_)
    (cond : BitVec 1) (x : BitVec 32) (inb : cond = 1#1 → ∀ a, fetchOff L x a + S72x256.size a ≤ S100000x512.size a) (K : Prog (TE F L) R) : Prog (TE F L) R :=
  if h : cond = 1#1 then startCopy L buf hbuf sem (fetchOff L x) (inb h) >>= fun _ => K else K

/-! ## What is held -/

variable (d : Dev nD) (L : grid1.Coords)

/-- The tile's first column. -/
abbrev colN (L : grid1.Coords) : ℕ := 256 * (L 0).val

section Copies
variable (qx : PosShare TreeShare) (X : S100000x512.Idx → F .f32)

/-- The tile's read share of `x`. -/
abbrev xShare : sProp (MM F) := (xM.view.loc (thr d L) ↦[Finset.univ]{qx} X)
/-- A copy buffer at rest: whatever it holds, and its semaphore at zero. -/
def Rest (buf : Memref sig .scVector .vmem S72x256 .f32) (sem : DmaSems sig S_) : sProp (MM F) :=
  iprop((∃ w, Holds d L buf w) ∗ semVal (thr d L, SemLoc.dma sem.sem) 0)
/-- The copy of the chunk beginning at row `s` under way into `buf`. -/
def Coming (buf : Memref sig .scVector .vmem S72x256 .f32) (sem : DmaSems sig S_) (s : ℕ) : sProp (MM F) :=
  iprop(∃ I : Finset (Idx (xM.view.loc (thr d L))),
    Transfers.Flight countersEmb (thr d L) (.dma sem.sem) (default : HIx 1) buf.view.dmaCredit
      iprop(Holds d L buf (blk X (copyRow s) (colN L)) ∗ (xM.view.loc (thr d L) ↦[I]{qx} X))
    ∗ (xM.view.loc (thr d L) ↦[Finset.univ \ I]{qx} X))
/-- What the tile owes, with waits of its own recorded. -/
def Owing (O : CellTallies nD τ sig (HIx 1)) (W : Waits sig (HIx 1)) : sProp (MM F) :=
  iprop(∃ W', ⌜∀ p ∈ W', p ∈ W ∨ p.2 = none⌝ ∗ owes (thr d L) O W')

/-- A chunk's copy under way if there is such a chunk, and else all at rest. -/
def Maybe (buf : Memref sig .scVector .vmem S72x256 .f32) (sem : DmaSems sig S_) (there : Prop) [Decidable there] (s : ℕ) : sProp (MM F) :=
  if there then Coming d L qx X buf sem s else iprop(xShare d L qx X ∗ Rest (F := F) d L buf sem)

/-- What is held before chunk `k` (beginning at row `s`), which goes into `buf`: the chunk's copy under way if there is
    such a chunk, and else all at rest. -/
def Before (buf buf' : Memref sig .scVector .vmem S72x256 .f32) (sem sem' : DmaSems sig S_) (there : Prop) [Decidable there] (s : ℕ) : sProp (MM F) :=
  iprop(Rest (F := F) d L buf' sem' ∗ Maybe d L qx X buf sem there s)

theorem fetchOff_eq {x : BitVec 32} {s : ℕ} (hx : IsInt x s) (hs : s < 2 ^ 31) : fetchOff L x = ![copyRow s, colN L] := by
  unfold fetchOff
  rw [copyW_nat hx hs, colW_nat (L 0).isLt (L 1).isLt]

theorem fetch_inb {x : BitVec 32} {s : ℕ} (hx : IsInt x s) (hs : s < 2 ^ 31) : ∀ a, fetchOff L x a + S72x256.size a ≤ S100000x512.size a := by
  rw [fetchOff_eq L hx hs]
  have h1 := copyRow_le s
  have h2 : (L 0).val < 2 := (L 0).isLt
  intro a
  match a with
  | 0 => show copyRow s + 72 ≤ 100000; exact h1
  | 1 => show 256 * (L 0).val + 256 ≤ 512; omega

/-- What the copy reads of `x`. -/
theorem read_fetchSrc {x : BitVec 32} {s : ℕ} (hx : IsInt x s) (hs : s < 2 ^ 31) (inb) :
    (fetchSrc (fetchOff L x) inb).view.read (Elt F) X = blk X (copyRow s) (colN L) := by
  have e := fetchOff_eq L hx hs
  have h2 : (L 0).val < 2 := (L 0).isLt
  have h1 := copyRow_le s
  funext j
  have e0 : fetchOff L x 0 = copyRow s := congrFun e 0
  have e1 : fetchOff L x 1 = colN L := congrFun e 1
  show X ((Rect.unit (s := S100000x512) (fetchOff L x) S72x256.size inb).idx j)
    = X (ix2 (Fin.ofNat 100000 (copyRow s + (j 0).val)) (Fin.ofNat 512 (colN L + (j 1).val)))
  refine congrArg X ?_
  have j0 : (j 0).val < 72 := (j 0).isLt
  have j1 : (j 1).val < 256 := (j 1).isLt
  funext a
  match a with
  | 0 =>
    refine Fin.ext ?_
    show fetchOff L x 0 + 1 * (j 0).val = (copyRow s + (j 0).val) % 100000
    rw [e0, Nat.mod_eq_of_lt (by omega)]; omega
  | 1 =>
    refine Fin.ext ?_
    show fetchOff L x 1 + 1 * (j 1).val = (colN L + (j 1).val) % 512
    rw [e1, Nat.mod_eq_of_lt (by show 256 * (L 0).val + (j 1).val < 512; omega)]; omega

/-- A copy started: from `x`'s share and a buffer at rest to that copy under way. -/
theorem wp_startCopy (buf : Memref sig .scVector .vmem S72x256 .f32) (hbuf : buf.IsWhole) (hu : buf.view.set = Finset.univ) (h0 : 0 < buf.view.dmaCredit)
    (sem : DmaSems sig S_) {x : BitVec 32} {s : ℕ} (hx : IsInt x s) (hs : s < 2 ^ 31) (inb) (Q : PUnit → sProp (MM F)) :
    iprop(xShare d L qx X ∗ Rest (F := F) d L buf sem ∗ (Coming d L qx X buf sem s -∗ Q ⟨⟩))
      ⊢ wp frame (wpE (defs₀ (F := F)) 𝒱₀ (thr d L) none) Set.univ (startCopy L buf hbuf sem (fetchOff L x) inb) Q := by
  unfold Rest Holds
  iintro ⟨Hx, ⟨⟨%w, %f, Hb, %hf⟩, Hs⟩, HQ⟩
  ihave Hx2 := (pointsTo_split_subset (q := qx) (f := X) (S := Finset.univ) (Finset.subset_univ (fetchSrc (fetchOff L x) inb).view.set)).1 $$ Hx
  icases Hx2 with ⟨Hx1, Hxr⟩
  unfold startCopy
  iapply (Transfers.wp_dmaLocal countersEmb 𝒱₀ (thr d L) none (src := fetchSrc (fetchOff L x) inb) (dst := buf) (via := .same) (default : HIx 1)
    buf.view.dmaCredit rfl h0 (Finset.subset_univ _)) $$ [Hx1 Hb Hs]
  · isplitl [Hx1]; · iexact Hx1
    isplitl [Hb]; · iexact Hb
    iexact Hs
  iintro Hfl
  sl_step
  iapply HQ
  unfold Coming
  iexists (fetchSrc (fetchOff L x) inb).view.set
  isplitl [Hfl]
  · iapply (Transfers.Flight_mono countersEmb ?_) $$ Hfl
    iintro ⟨Hb, Hx⟩
    isplitl [Hb]
    · unfold Holds
      iexists _
      isplitl [Hb]; · iexact Hb
      ipureintro
      rw [View.read_write_univ]
      exact read_fetchSrc L X hx hs inb
    · iexact Hx
  · iexact Hxr

/-- A copy awaited: its buffer holds the chunk's block, the share of `x` is whole again. -/
theorem wp_awaitCopy (buf : Memref sig .scVector .vmem S72x256 .f32) (hbuf : buf.IsWhole) (sem : DmaSems sig S_) (s : ℕ)
    (off : Fin 2 → ℕ) (inb) {O : CellTallies nD τ sig (HIx 1)} {W : Waits sig (HIx 1)} (Q : PUnit → sProp (MM F)) :
    iprop(Transfers.MayWaits (thr d L) (default : HIx 1) O ∗ Owing d L O W ∗ Coming d L qx X buf sem s
        ∗ ((Owing d L O W ∗ xShare d L qx X ∗ Holds d L buf (blk X (copyRow s) (colN L)) ∗ semVal (thr d L, SemLoc.dma sem.sem) 0) -∗ Q ⟨⟩))
      ⊢ wp frame (wpE (defs₀ (F := F)) 𝒱₀ (thr d L) none) Set.univ (awaitCopy L buf hbuf sem off inb) Q := by
  unfold Coming Owing
  iintro ⟨Hmw, ⟨%W', %hW', HO⟩, ⟨%I, Hfl, Hxr⟩, HQ⟩
  unfold awaitCopy
  iapply (Transfers.wp_waitLocalO countersEmb 𝒱₀ (thr d L) none (default : HIx 1) (rfl : buf.view.dmaCredit = _)) $$ [Hfl HO Hmw]
  · isplitl [Hfl]; · iexact Hfl
    isplitl [HO]; · iexact HO
    iapply (Transfers.MayWaits.elim (SemLoc.dma sem.sem)) $$ Hmw
  iintro ⟨⟨Hb, Hx⟩, Hs, HO⟩
  sl_step
  iapply HQ
  isplitl [HO]
  · iexists _
    isplitr
    swap; · iexact HO
    ipureintro; intro p hp
    rcases Finset.mem_insert.mp hp with hp | hp; · exact .inr (hp ▸ rfl)
    exact hW' p hp
  isplitl [Hx Hxr]
  · iapply (pointsTo_split_subset (q := qx) (f := X) (S := Finset.univ) (Finset.subset_univ I)).2
    isplitl [Hx] <;> iassumption
  isplitl [Hb]; · iexact Hb
  iexact Hs

/-- A chunk's copy started where there is such a chunk. -/
theorem wp_startIf {R : Type} (buf : Memref sig .scVector .vmem S72x256 .f32) (hbuf : buf.IsWhole) (hu : buf.view.set = Finset.univ) (h0 : 0 < buf.view.dmaCredit)
    (sem : DmaSems sig S_) {x : BitVec 32} {s : ℕ} (hx : IsInt x s) (hs : s < 2 ^ 31) {cond : BitVec 1} (inb)
    {there : Prop} [Decidable there] (hc : cond = 1#1 ↔ there) (K : Prog (TE F L) R) (Q : R → sProp (MM F)) :
    iprop(xShare d L qx X ∗ Rest (F := F) d L buf sem
        ∗ (Maybe d L qx X buf sem there s -∗ wp frame (wpE (defs₀ (F := F)) 𝒱₀ (thr d L) none) Set.univ K Q))
      ⊢ wp frame (wpE (defs₀ (F := F)) 𝒱₀ (thr d L) none) Set.univ (startIf L buf hbuf sem cond x inb K) Q := by
  unfold startIf Maybe
  by_cases h : there
  · simp only [if_pos h, dif_pos (hc.mpr h)]
    iintro ⟨Hx, HA, HQ⟩
    rw [wp_bind]
    iapply (wp_startCopy d L qx X buf hbuf hu h0 sem hx hs (inb (hc.mpr h)))
    isplitl [Hx]; · iexact Hx
    isplitl [HA]; · iexact HA
    iexact HQ
  · simp only [if_neg h, dif_neg (fun h' => h (hc.mp h'))]
    iintro ⟨Hx, HA, HQ⟩
    iapply HQ
    isplitl [Hx]; · iexact Hx
    iexact HA

/-- The same of a conditional whose branches are that text. -/
theorem wp_prime {R : Type} (buf : Memref sig .scVector .vmem S72x256 .f32) (hbuf : buf.IsWhole) (hu : buf.view.set = Finset.univ) (h0 : 0 < buf.view.dmaCredit)
    (sem : DmaSems sig S_) {x : BitVec 32} {s : ℕ} (hx : IsInt x s) (hs : s < 2 ^ 31) {cond₀ cond : BitVec 1} (inb)
    {there : Prop} [Decidable there] (hc : cond = 1#1 ↔ there) {A : cond₀ = 1#1 → Prog (TE F L) R} {K : Prog (TE F L) R} (Q : R → sProp (MM F))
    (hA : (if h : cond₀ = 1#1 then A h else K) = startIf L buf hbuf sem cond x inb K) :
    iprop(xShare d L qx X ∗ Rest (F := F) d L buf sem
        ∗ (Maybe d L qx X buf sem there s -∗ wp frame (wpE (defs₀ (F := F)) 𝒱₀ (thr d L) none) Set.univ K Q))
      ⊢ wp frame (wpE (defs₀ (F := F)) 𝒱₀ (thr d L) none) Set.univ (if h : cond₀ = 1#1 then A h else K) Q := by
  rw [hA]
  exact wp_startIf d L qx X buf hbuf hu h0 sem hx hs inb hc K Q

/-- What is held between the wait for chunk `k` and its rows: its block in `buf`, and the next chunk's copy under way into
    `buf'` if there is one. -/
def Between (buf buf' : Memref sig .scVector .vmem S72x256 .f32) (sem sem' : DmaSems sig S_) (there there' : Prop) [Decidable there] [Decidable there']
    (s s' : ℕ) : sProp (MM F) :=
  if there then iprop((Holds d L buf (blk X (copyRow s) (colN L)) ∗ semVal (thr d L, SemLoc.dma sem.sem) 0)
      ∗ Maybe d L qx X buf' sem' there' s')
  else iprop(xShare d L qx X ∗ Rest (F := F) d L buf sem ∗ Rest (F := F) d L buf' sem')

/-- The wait for one chunk, and the start of the next, of a conditional whose branches are that text. -/
theorem wp_stage {R : Type} (buf buf' : Memref sig .scVector .vmem S72x256 .f32) (hbuf : buf.IsWhole) (hbuf' : buf'.IsWhole) (hu' : buf'.view.set = Finset.univ)
    (h0' : 0 < buf'.view.dmaCredit) (sem sem' : DmaSems sig S_) {x x' : BitVec 32} (s : ℕ) {s' : ℕ} (hx' : IsInt x' s') (hs' : s' < 2 ^ 31)
    {cond₀ cond cond' : BitVec 1} (inb : cond = 1#1 → ∀ a, fetchOff L x a + S72x256.size a ≤ S100000x512.size a)
    (inb' : cond = 1#1 → cond' = 1#1 → ∀ a, fetchOff L x' a + S72x256.size a ≤ S100000x512.size a)
    {there there' : Prop} [Decidable there] [Decidable there'] (hc : cond = 1#1 ↔ there) (hc' : cond' = 1#1 ↔ there')
    {O : CellTallies nD τ sig (HIx 1)} {W : Waits sig (HIx 1)} {A : cond₀ = 1#1 → Prog (TE F L) R} {K : Prog (TE F L) R} (Q : R → sProp (MM F))
    (hA : (if h : cond₀ = 1#1 then A h else K)
      = if h : cond = 1#1 then awaitCopy L buf hbuf sem (fetchOff L x) (inb h) >>= fun _ => startIf L buf' hbuf' sem' cond' x' (inb' h) K else K) :
    iprop(Transfers.MayWaits (thr d L) (default : HIx 1) O ∗ Owing d L O W ∗ Before d L qx X buf buf' sem sem' there s
        ∗ ((Owing d L O W ∗ Between d L qx X buf buf' sem sem' there there' s s')
          -∗ wp frame (wpE (defs₀ (F := F)) 𝒱₀ (thr d L) none) Set.univ K Q))
      ⊢ wp frame (wpE (defs₀ (F := F)) 𝒱₀ (thr d L) none) Set.univ (if h : cond₀ = 1#1 then A h else K) Q := by
  rw [hA]
  unfold Before Between
  by_cases h : there
  · rw [show Maybe d L qx X buf sem there s = Coming d L qx X buf sem s from if_pos h]
    simp only [if_pos h, dif_pos (hc.mpr h)]
    iintro ⟨Hmw, HO, ⟨HB, HA⟩, HQ⟩
    rw [wp_bind]
    iapply (wp_awaitCopy d L qx X buf hbuf sem s _ (inb (hc.mpr h)))
    isplitl [Hmw]; · iexact Hmw
    isplitl [HO]; · iexact HO
    isplitl [HA]; · iexact HA
    iintro ⟨HO, Hx, Hb, Hs⟩
    iapply (wp_startIf d L qx X buf' hbuf' hu' h0' sem' hx' hs' (inb' (hc.mpr h)) hc' K Q)
    isplitl [Hx]; · iexact Hx
    isplitl [HB]; · iexact HB
    iintro H
    iapply HQ
    isplitl [HO]; · iexact HO
    isplitl [Hb Hs]
    · isplitl [Hb]; · iexact Hb
      iexact Hs
    iexact H
  · rw [show Maybe d L qx X buf sem there s = iprop(xShare d L qx X ∗ Rest (F := F) d L buf sem) from if_neg h]
    simp only [if_neg h, dif_neg (fun h' => h (hc.mp h'))]
    iintro ⟨Hmw, HO, ⟨HB, Hx, HA⟩, HQ⟩
    iapply HQ
    isplitl [HO]; · iexact HO
    isplitl [Hx]; · iexact Hx
    isplitl [HA]; · iexact HA
    iexact HB

/-- The rows of chunk `k`, from after its wait to before the next chunk: the accumulators take the rows in. -/
theorem wp_rows (buf buf' : Memref sig .scVector .vmem S72x256 .f32) (sem sem' : DmaSems sig S_) {r0 r1 c : BitVec 32} {a b k : ℕ}
    (ha : IsInt r0 a) (hb : IsInt r1 b) (hab : a ≤ b) (hbN : b ≤ 100000) (hc : IsInt c k) (hk : k ≤ 4000)
    (hok : (rowLoop r0 r1 c).OK) (hr : ∀ t : Fin (rowLoop r0 r1 c).trips, (rowW r0 c t).toNat < 72) {k' : ℕ} (hk' : k' = k + 1)
    (p : Prog (TE F L) (Acc F))
    (hp : p = Scf.Loop.for (rowLoop r0 r1 c) hok (accT X a (colN L) (min (64 * k) (b - a))) fun t acc => rowBody L buf (rowW r0 c t).toNat (hr t) acc)
    (Q : Acc F → sProp (MM F)) :
    iprop(Between d L qx X buf buf' sem sem' (k < (b - a + 63) / 64) (k' < (b - a + 63) / 64) (a + 64 * k) (a + 64 * k')
        ∗ (Before d L qx X buf' buf sem' sem (k' < (b - a + 63) / 64) (a + 64 * k') -∗ Q (accT X a (colN L) (min (64 * k') (b - a)))))
      ⊢ wp frame (wpE (defs₀ (F := F)) 𝒱₀ (thr d L) none) Set.univ p Q := by
  subst hk'
  unfold Between Before
  by_cases h : k < (b - a + 63) / 64
  · simp only [if_pos h]
    iintro ⟨⟨⟨Hb, Hs⟩, Hm⟩, HQ⟩
    iapply (wp_rowLoop d L buf X (colN L) ha hb hab hbN hc hk hok hr (min (64 * k) (b - a)) (min (64 * (k + 1)) (b - a)) (by omega) (by omega) p hp)
    isplitl [Hb]; · iexact Hb
    iintro Hb
    iapply HQ
    isplitl [Hb Hs]
    · unfold Rest
      isplitl [Hb]
      · iexists _; iexact Hb
      iexact Hs
    iexact Hm
  · rw [show Maybe d L qx X buf' sem' (k + 1 < (b - a + 63) / 64) (a + 64 * (k + 1)) = iprop(xShare d L qx X ∗ Rest (F := F) d L buf' sem') from
      if_neg (by omega)]
    simp only [if_neg h]
    subst hp
    have htr : Scf.trips (rowLoop r0 r1 c).lb (rowLoop r0 r1 c).ub (rowLoop r0 r1 c).st = 0 := (row_trips ha hb hab hbN hc hk).trans (by omega)
    have key := fun Q : Acc F → sProp (MM F) => (Scf.wp_for frame (wpE (defs₀ (F := F)) 𝒱₀ (thr d L) none) Set.univ (rowLoop r0 r1 c).lb (rowLoop r0 r1 c).ub (rowLoop r0 r1 c).st hok
      (accT X a (colN L) (min (64 * k) (b - a))) (fun t acc => rowBody L buf (rowW r0 c t).toNat (hr t) acc)
      (fun t acc => iprop(⌜acc = accT X a (colN L) (min (64 * k) (b - a))⌝)) (fun t => absurd t.isLt (by omega)) (Q := Q))
    iintro ⟨⟨Hx, HA, HB⟩, HQ⟩
    iapply (key Q)
    isplitr; · ipureintro; rfl
    iintro %acc %hacc
    rw [hacc, show min (64 * k) (b - a) = min (64 * (k + 1)) (b - a) by omega]
    iapply HQ
    isplitl [HA]; · iexact HA
    isplitl [Hx]; · iexact Hx
    iexact HB

/-- The same at the head of a program. -/
theorem wp_rows_bind {R : Type} (buf buf' : Memref sig .scVector .vmem S72x256 .f32) (sem sem' : DmaSems sig S_) {r0 r1 c : BitVec 32} {a b k : ℕ}
    (ha : IsInt r0 a) (hb : IsInt r1 b) (hab : a ≤ b) (hbN : b ≤ 100000) (hc : IsInt c k) (hk : k ≤ 4000)
    (hok : (rowLoop r0 r1 c).OK) (hr : ∀ t : Fin (rowLoop r0 r1 c).trips, (rowW r0 c t).toNat < 72) {k' : ℕ} (hk' : k' = k + 1)
    {p : Prog (TE F L) (Acc F)} {kk : Acc F → Prog (TE F L) R} (Q : R → sProp (MM F))
    (hp : p = Scf.Loop.for (rowLoop r0 r1 c) hok (accT X a (colN L) (min (64 * k) (b - a))) fun t acc => rowBody L buf (rowW r0 c t).toNat (hr t) acc) :
    iprop(Between d L qx X buf buf' sem sem' (k < (b - a + 63) / 64) (k' < (b - a + 63) / 64) (a + 64 * k) (a + 64 * k')
        ∗ (Before d L qx X buf' buf sem' sem (k' < (b - a + 63) / 64) (a + 64 * k')
          -∗ wp frame (wpE (defs₀ (F := F)) 𝒱₀ (thr d L) none) Set.univ (kk (accT X a (colN L) (min (64 * k') (b - a)))) Q))
      ⊢ wp frame (wpE (defs₀ (F := F)) 𝒱₀ (thr d L) none) Set.univ (p >>= kk) Q := by
  rw [wp_bind]
  exact wp_rows d L qx X buf buf' sem sem' ha hb hab hbN hc hk hok hr hk' (Q := fun acc => wp frame (wpE (defs₀ (F := F)) 𝒱₀ (thr d L) none) Set.univ (kk acc) Q) p hp

end Copies

end Cert.Proof.Pool
-- ==== Proof.Pool.Pair.lean ====
/-
  One pair of chunks: both buffers' turns, with their conditions decided by how many chunks the segment has.
-/
module

public import proofs.«01_k».proof.Proof.Pool.Stage

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Affine (IsInt)

variable {F : FTy → Type} [FloatOps F]

theorem entails_at {α : Type} (Q : α → sProp (MM F)) {x y : α} (h : y = x) : Q x ⊢ Q y := h ▸ Entails.refl _

/-- One pair of chunks, as the kernel's text has it for its first segment. -/
def pairBody (L : grid1.Coords) (r0 r1 : BitVec 32) (hw : k1_chk1 L r0 r1) (t : Fin (k1_t1_loop r0 r1).trips) (acc : Acc F) : Prog (TE F L) (Acc F) :=
  k1_part6 L xM (Memref.isWhole_whole _) startsM (Memref.isWhole_whole _) sumM (Memref.isWhole_whole _) maxM (Memref.isWhole_whole _)
      rowsM (Memref.isWhole_whole _) bufA (Memref.isWhole_whole _) bufB (Memref.isWhole_whole _) stSum (Memref.isWhole_whole _) stMax (Memref.isWhole_whole _)
      cc1_scratch5 cc1_scratch6 cc1_scoped0 cc1_scoped1 cc1_scoped2
      r0 r1 hw (chunksW r0 r1) 0#32 1#32 t
      acc.1 acc.2.1 acc.2.2.1 acc.2.2.2.1 acc.2.2.2.2.1 acc.2.2.2.2.2.1 acc.2.2.2.2.2.2.1 acc.2.2.2.2.2.2.2.1 acc.2.2.2.2.2.2.2.2.1 acc.2.2.2.2.2.2.2.2.2.1 acc.2.2.2.2.2.2.2.2.2.2.1 acc.2.2.2.2.2.2.2.2.2.2.2.1 acc.2.2.2.2.2.2.2.2.2.2.2.2.1 acc.2.2.2.2.2.2.2.2.2.2.2.2.2.1 acc.2.2.2.2.2.2.2.2.2.2.2.2.2.2.1 acc.2.2.2.2.2.2.2.2.2.2.2.2.2.2.2.1 acc.2.2.2.2.2.2.2.2.2.2.2.2.2.2.2.2.1 acc.2.2.2.2.2.2.2.2.2.2.2.2.2.2.2.2.2.1 acc.2.2.2.2.2.2.2.2.2.2.2.2.2.2.2.2.2.2.1 acc.2.2.2.2.2.2.2.2.2.2.2.2.2.2.2.2.2.2.2.1 acc.2.2.2.2.2.2.2.2.2.2.2.2.2.2.2.2.2.2.2.2.1 acc.2.2.2.2.2.2.2.2.2.2.2.2.2.2.2.2.2.2.2.2.2.1 acc.2.2.2.2.2.2.2.2.2.2.2.2.2.2.2.2.2.2.2.2.2.2.1 acc.2.2.2.2.2.2.2.2.2.2.2.2.2.2.2.2.2.2.2.2.2.2.2.1 acc.2.2.2.2.2.2.2.2.2.2.2.2.2.2.2.2.2.2.2.2.2.2.2.2.1 acc.2.2.2.2.2.2.2.2.2.2.2.2.2.2.2.2.2.2.2.2.2.2.2.2.2.1 acc.2.2.2.2.2.2.2.2.2.2.2.2.2.2.2.2.2.2.2.2.2.2.2.2.2.2.1 acc.2.2.2.2.2.2.2.2.2.2.2.2.2.2.2.2.2.2.2.2.2.2.2.2.2.2.2.1 acc.2.2.2.2.2.2.2.2.2.2.2.2.2.2.2.2.2.2.2.2.2.2.2.2.2.2.2.2.1 acc.2.2.2.2.2.2.2.2.2.2.2.2.2.2.2.2.2.2.2.2.2.2.2.2.2.2.2.2.2.1 acc.2.2.2.2.2.2.2.2.2.2.2.2.2.2.2.2.2.2.2.2.2.2.2.2.2.2.2.2.2.2.1 acc.2.2.2.2.2.2.2.2.2.2.2.2.2.2.2.2.2.2.2.2.2.2.2.2.2.2.2.2.2.2.2 >>=
    fun ⟨s0, s1, s2, s3, s4, s5, s6, s7, s8, s9, s10, s11, s12, s13, s14, s15, s16, s17, s18, s19, s20, s21, s22, s23, s24, s25, s26, s27, s28, s29, s30, s31⟩ => pure (s0, s1, s2, s3, s4, s5, s6, s7, s8, s9, s10, s11, s12, s13, s14, s15, s16, s17, s18, s19, s20, s21, s22, s23, s24, s25, s26, s27, s28, s29, s30, s31)

variable (d : Dev nD) (L : grid1.Coords) (qx : PosShare TreeShare) (X : S100000x512.Idx → F .f32)

theorem wp_pairBody {r0 r1 : BitVec 32} {a b : ℕ} (ha : IsInt r0 a) (hb : IsInt r1 b) (hab : a ≤ b) (hbN : b ≤ 100000)
    (hw : k1_chk1 L r0 r1) (t : Fin (k1_t1_loop r0 r1).trips) {O : CellTallies nD τ sig (HIx 1)} {W : Waits sig (HIx 1)} (Q : Acc F → sProp (MM F)) :
    iprop(Transfers.MayWaits (thr d L) (default : HIx 1) O ∗ Owing d L O W
        ∗ Before d L qx X bufA bufB cc1_scratch5 cc1_scratch6 (2 * t.val < (b - a + 63) / 64) (a + 64 * (2 * t.val))
        ∗ (Owing d L O W ∗ Before d L qx X bufA bufB cc1_scratch5 cc1_scratch6 (2 * t.val + 2 < (b - a + 63) / 64) (a + 64 * (2 * t.val + 2))
          -∗ Q (accT X a (colN L) (min (64 * (2 * t.val + 2)) (b - a)))))
      ⊢ wp frame (wpE (defs₀ (F := F)) 𝒱₀ (thr d L) none) Set.univ
          (pairBody L r0 r1 hw t (accT X a (colN L) (min (64 * (2 * t.val)) (b - a)))) Q := by
  unfold pairBody
  iintro ⟨#Hmw, HO, HB, HQ⟩
  have hT : t.val < ((b - a + 63) / 64 + 1) / 2 := (show (k1_t1_loop r0 r1).trips = _ from pair_trips ha hb hab hbN) ▸ t.isLt
  have ht : t.val ≤ 1000 := by omega
  have he := evenW_int ht
  have ho := oddW_int ht
  have hn := nextW_int ht
  have hse := startW_int ha hb hab hbN he (by omega)
  have hso := startW_int ha hb hab hbN ho (by omega)
  have hsn := startW_int ha hb hab hbN hn (by omega)
  set_option sl_exec.stopBefore "k1_cond2" in sl_exec
  iapply (wp_stage d L qx X bufA bufB (Memref.isWhole_whole _) (Memref.isWhole_whole _) (View.set_whole _) (by decide) cc1_scratch5 cc1_scratch6
    (a + 64 * (2 * t.val)) hso (by omega) (fun _ => fetch_inb L hse (by omega)) (fun _ _ => fetch_inb L hso (by omega))
    (belowW_iff ha hb hab hbN he (by omega)) (belowW_iff ha hb hab hbN ho (by omega)) _ ?_)
  · sl_kernel_rfl
  isplitr; · iexact Hmw
  isplitl [HO]; · iexact HO
  isplitl [HB]; · iexact HB
  iintro ⟨HO, HB⟩
  sl_exec
  iapply (wp_rows_bind d L qx X bufA bufB cc1_scratch5 cc1_scratch6 ha hb hab hbN he (by omega) (row_ok ha hb hab hbN he (by omega))
    (row_lt ha hb hab hbN he (by omega)) (k' := 2 * t.val + 1) rfl _ ?_)
  · sl_kernel_rfl
  isplitl [HB]; · iexact HB
  iintro HB
  set_option sl_exec.stopBefore "k1_cond4" in sl_exec
  iapply (wp_stage d L qx X bufB bufA (Memref.isWhole_whole _) (Memref.isWhole_whole _) (View.set_whole _) (by decide) cc1_scratch6 cc1_scratch5
    (a + 64 * (2 * t.val + 1)) hsn (by omega) (fun _ => fetch_inb L hso (by omega)) (fun _ _ => fetch_inb L hsn (by omega))
    (belowW_iff ha hb hab hbN ho (by omega)) (belowW_iff ha hb hab hbN hn (by omega)) _ ?_)
  · sl_kernel_rfl
  isplitr; · iexact Hmw
  isplitl [HO]; · iexact HO
  isplitl [HB]; · iexact HB
  iintro ⟨HO, HB⟩
  sl_exec
  iapply (wp_rows_bind d L qx X bufB bufA cc1_scratch6 cc1_scratch5 ha hb hab hbN ho (by omega) (row_ok ha hb hab hbN ho (by omega))
    (row_lt ha hb hab hbN ho (by omega)) (k' := 2 * t.val + 2) rfl _ ?_)
  · sl_kernel_rfl
  isplitl [HB]; · iexact HB
  iintro HB
  sl_exec
  sl_step
  iapply (entails_at Q (x := accT X a (colN L) (min (64 * (2 * t.val + 2)) (b - a))) ?_)
  · sl_kernel_rfl
  iapply HQ
  isplitl [HO]; · iexact HO
  iexact HB

end Cert.Proof.Pool
-- ==== Proof.Pool.Loop.lean ====
/-
  All the chunks of a segment: the loop over the pairs.
-/
module

public import proofs.«01_k».proof.Proof.Pool.Pair

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Affine (IsInt)

variable {F : FTy → Type} [FloatOps F]
variable (d : Dev nD) (L : grid1.Coords) (qx : PosShare TreeShare) (X : S100000x512.Idx → F .f32)

theorem maybe_congr (buf : Memref sig .scVector .vmem S72x256 .f32) (sem : DmaSems sig S_) {there there' : Prop} [Decidable there] [Decidable there']
    (h : there ↔ there') {s s' : ℕ} (hs : s = s') : Maybe d L qx X buf sem there s = Maybe d L qx X buf sem there' s' := by
  subst hs
  unfold Maybe
  by_cases ht : there
  · rw [if_pos ht, if_pos (h.mp ht)]
  · rw [if_neg ht, if_neg (fun h' => ht (h.mpr h'))]

/-- The pairs of a segment's chunks, of a loop whose body is that text: from the first chunk's copy under way (where there
    is a chunk) to all at rest, with the accumulators over all the segment's rows. -/
theorem wp_pairs {R : Type} {r0 r1 : BitVec 32} {a b : ℕ} (ha : IsInt r0 a) (hb : IsInt r1 b) (hab : a ≤ b) (hbN : b ≤ 100000) (hw : k1_chk1 L r0 r1)
    {O : CellTallies nD τ sig (HIx 1)} {W : Waits sig (HIx 1)} {p : Prog (TE F L) (Acc F)} {kk : Acc F → Prog (TE F L) R} (Q : R → sProp (MM F))
    (hp : p = Scf.Loop.for (k1_t1_loop r0 r1) (pair_ok ha hb hab hbN) (accT X a (colN L) 0) fun t acc => pairBody L r0 r1 hw t acc) :
    iprop(Transfers.MayWaits (thr d L) (default : HIx 1) O ∗ Owing d L O W ∗ Rest (F := F) d L bufB cc1_scratch6 ∗ Maybe d L qx X bufA cc1_scratch5 (a < b) a
        ∗ ((Owing d L O W ∗ xShare d L qx X ∗ Rest (F := F) d L bufA cc1_scratch5 ∗ Rest (F := F) d L bufB cc1_scratch6)
          -∗ wp frame (wpE (defs₀ (F := F)) 𝒱₀ (thr d L) none) Set.univ (kk (accT X a (colN L) (b - a))) Q))
      ⊢ wp frame (wpE (defs₀ (F := F)) 𝒱₀ (thr d L) none) Set.univ (p >>= kk) Q := by
  subst hp
  have hT : Scf.trips (pairLoop r0 r1).lb (pairLoop r0 r1).ub (pairLoop r0 r1).st = ((b - a + 63) / 64 + 1) / 2 := pair_trips ha hb hab hbN
  let I : ℕ → Acc F → sProp (MM F) := fun t acc =>
    iprop(⌜acc = accT X a (colN L) (min (64 * (2 * t)) (b - a))⌝ ∗ Transfers.MayWaits (thr d L) (default : HIx 1) O ∗ Owing d L O W
      ∗ Before d L qx X bufA bufB cc1_scratch5 cc1_scratch6 (2 * t < (b - a + 63) / 64) (a + 64 * (2 * t)))
  have hbody : ∀ (t : Fin (Scf.trips (pairLoop r0 r1).lb (pairLoop r0 r1).ub (pairLoop r0 r1).st)) (acc : Acc F),
      I t.val acc ⊢ wp frame (wpE (defs₀ (F := F)) 𝒱₀ (thr d L) none) Set.univ (pairBody L r0 r1 hw t acc) (I (t.val + 1)) := by
    intro t acc
    iintro ⟨%hacc, #Hmw, HO, HB⟩
    rw [hacc]
    iapply (wp_pairBody d L qx X ha hb hab hbN hw t)
    isplitr; · iexact Hmw
    isplitl [HO]; · iexact HO
    isplitl [HB]; · iexact HB
    iintro ⟨HO, HB⟩
    isplitr; · ipureintro; rw [show 2 * (t.val + 1) = 2 * t.val + 2 by omega]
    isplitr; · iexact Hmw
    isplitl [HO]; · iexact HO
    rw [show 2 * (t.val + 1) = 2 * t.val + 2 by omega]
    iexact HB
  have key := fun Q : Acc F → sProp (MM F) => (Scf.wp_for frame (wpE (defs₀ (F := F)) 𝒱₀ (thr d L) none) Set.univ (pairLoop r0 r1).lb (pairLoop r0 r1).ub
    (pairLoop r0 r1).st (pair_ok ha hb hab hbN) (accT X a (colN L) 0) (fun t acc => pairBody L r0 r1 hw t acc) I hbody (Q := Q))
  rw [wp_bind]
  iintro ⟨#Hmw, HO, HB, HA, HQ⟩
  iapply (key _)
  isplitl [HO HB HA]
  · isplitr; · ipureintro; rw [show min (64 * (2 * 0)) (b - a) = 0 by omega]
    isplitr; · iexact Hmw
    isplitl [HO]; · iexact HO
    unfold Before
    isplitl [HB]; · iexact HB
    rw [maybe_congr d L qx X bufA cc1_scratch5 (there := 2 * 0 < (b - a + 63) / 64) (there' := a < b) (by omega) (s' := a) (by omega)]
    iexact HA
  · rw [hT]
    iintro %acc ⟨%hacc, -, HO, HB⟩
    rw [hacc, show min (64 * (2 * (((b - a + 63) / 64 + 1) / 2))) (b - a) = b - a by omega]
    iapply HQ
    isplitl [HO]; · iexact HO
    unfold Before
    rw [show Maybe d L qx X bufA cc1_scratch5 (2 * (((b - a + 63) / 64 + 1) / 2) < (b - a + 63) / 64) (a + 64 * (2 * (((b - a + 63) / 64 + 1) / 2)))
      = iprop(xShare d L qx X ∗ Rest (F := F) d L bufA cc1_scratch5) from if_neg (by omega)]
    icases HB with ⟨HB, HX, HA⟩
    isplitl [HX]; · iexact HX
    isplitl [HA]; · iexact HA
    iexact HB

end Cert.Proof.Pool
-- ==== Proof.Pool.Check.lean ====
/-
  The side conditions the kernel assumes of the two row numbers of a segment, which hold of any two in order.
-/
module

public import proofs.«01_k».proof.Proof.Pool.Loop

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Affine (IsInt)

variable {F : FTy → Type} [FloatOps F]

theorem dead_trips (n : BitVec 32) : Scf.trips (uptoW n) (Scalar.addi 0#32 (Scalar.subi n 0#32)) 1#32 = 0 := by
  rw [uptoW_eq, show Scalar.addi 0#32 (Scalar.subi n 0#32) = n by simp [Scalar.addi, Scalar.subi, IntOp.addi, IntOp.subi]]
  exact Scf.trips_self _
theorem dead_ok {n : BitVec 32} {k : ℕ} (hn : IsInt n k) (hk : k ≤ 200000) : Scf.OK (uptoW n) (Scalar.addi 0#32 (Scalar.subi n 0#32)) 1#32 := by
  rw [uptoW_eq, show Scalar.addi 0#32 (Scalar.subi n 0#32) = n by simp [Scalar.addi, Scalar.subi, IntOp.addi, IntOp.subi]]
  exact Affine.ok hn hn (lit 1) (by omega)

/-- Sixteen columns of a row among the 72 copied are in range, -/
theorem row_in {off : Fin 2 → ℕ} {x : ℕ} (hx : x < 72) (h0 : off 0 = x) (h1 : Nat.ble (off 1 + 16) 256 = true) :
    ∀ a, off a + S1x16.size a ≤ S72x256.size a := by
  have h1' := Nat.le_of_ble_eq_true h1
  intro a
  match a with
  | 0 => show off 0 + 1 ≤ 72; omega
  | 1 => show off 1 + 16 ≤ 256; exact h1'
/-- and so is what a chunk's copy reads. -/
theorem copy_in (L : grid1.Coords) {off : Fin 2 → ℕ} {x : BitVec 32} {s : ℕ} (hx : IsInt x s) (hs : s < 2 ^ 31) (h : off = fetchOff L x) :
    ∀ a, off a + S72x256.size a ≤ S100000x512.size a := h ▸ fetch_inb L hx hs

section
variable {r0 r1 : BitVec 32} {a b : ℕ} (ha : IsInt r0 a) (hb : IsInt r1 b) (hab : a ≤ b) (hbN : b ≤ 100000) (L : grid1.Coords)
include ha hb hab hbN

theorem pair_le (t : Fin (k1_t1_loop r0 r1).trips) : t.val ≤ 1000 := by
  have h : t.val < ((b - a + 63) / 64 + 1) / 2 := pair_trips ha hb hab hbN ▸ t.isLt
  omega
theorem even_lt (t : Fin (k1_t1_loop r0 r1).trips) (n : Fin (k1_t2_loop r0 r1 t).trips) : (rowW r0 (evenW t) n).toNat < 72 :=
  row_lt ha hb hab hbN (evenW_int (pair_le ha hb hab hbN t)) (by have := pair_le ha hb hab hbN t; omega) n
theorem odd_lt (t : Fin (k1_t1_loop r0 r1).trips) (n : Fin (k1_t4_loop r0 r1 t).trips) : (rowW r0 (oddW t) n).toNat < 72 :=
  row_lt ha hb hab hbN (oddW_int (pair_le ha hb hab hbN t)) (by have := pair_le ha hb hab hbN t; omega) n

theorem chk_all : k1_chk1 L r0 r1 := by
  have hd3 : ∀ (t : Fin (k1_t1_loop r0 r1).trips), ¬ 0 < (k1_t3_loop r0 r1 t).trips := fun t => by
    rw [show (k1_t3_loop r0 r1 t).trips = 0 from dead_trips _]; omega
  have hd5 : ∀ (t : Fin (k1_t1_loop r0 r1).trips), ¬ 0 < (k1_t5_loop r0 r1 t).trips := fun t => by
    rw [show (k1_t5_loop r0 r1 t).trips = 0 from dead_trips _]; omega
  have hd6 : ¬ 0 < (k1_t6_loop r0 r1).trips := by
    rw [show (k1_t6_loop r0 r1).trips = 0 from dead_trips _]; omega
  have hp := pair_le ha hb hab hbN
  have hse := fun t => startW_int ha hb hab hbN (evenW_int (hp t)) (by have := hp t; omega)
  have hso := fun t => startW_int ha hb hab hbN (oddW_int (hp t)) (by have := hp t; omega)
  have hsn := fun t => startW_int ha hb hab hbN (nextW_int (hp t)) (by have := hp t; omega)
  have hre := fun t => rowsW_int ha hb hab hbN (evenW_int (hp t)) (by have := hp t; omega)
  have hro := fun t => rowsW_int ha hb hab hbN (oddW_int (hp t)) (by have := hp t; omega)
  have hre' : ∀ t, (k1_t2_loop r0 r1 t).OK := fun t => row_ok ha hb hab hbN (evenW_int (hp t)) (by have := hp t; omega)
  have hro' : ∀ t, (k1_t4_loop r0 r1 t).OK := fun t => row_ok ha hb hab hbN (oddW_int (hp t)) (by have := hp t; omega)
  have hs0 : IsInt (Scalar.addi r0 0#32) a := Affine.addi ha (lit 0) (by omega)
  refine ⟨?_, ?_, ?_, ?_, ?_⟩
  · refine ⟨fun _ => copy_in L hs0 (by omega) (by sl_kernel_rfl), pair_ok ha hb hab hbN,
      fun t _ => copy_in L (hse t) (by have := hp t; omega) (by sl_kernel_rfl), fun t _ _ => copy_in L (hso t) (by have := hp t; omega) (by sl_kernel_rfl), hre', ?_⟩
    iterate 16 refine ⟨fun t n => row_in (even_lt ha hb hab hbN t n) (by sl_kernel_rfl) (by sl_kernel_rfl), ?_⟩
    refine ⟨fun t => dead_ok (hre t) (by omega), ?_⟩
    iterate 9 refine ⟨fun t n => absurd (Nat.zero_lt_of_lt n.isLt) (hd3 t), ?_⟩
    exact fun t n => absurd (Nat.zero_lt_of_lt n.isLt) (hd3 t)
  · iterate 6 refine ⟨fun t n => absurd (Nat.zero_lt_of_lt n.isLt) (hd3 t), ?_⟩
    refine ⟨fun t _ => copy_in L (hso t) (by have := hp t; omega) (by sl_kernel_rfl), fun t _ _ => copy_in L (hsn t) (by have := hp t; omega) (by sl_kernel_rfl), hro', ?_⟩
    iterate 16 refine ⟨fun t n => row_in (odd_lt ha hb hab hbN t n) (by sl_kernel_rfl) (by sl_kernel_rfl), ?_⟩
    refine ⟨fun t => dead_ok (hro t) (by omega), ?_⟩
    iterate 5 refine ⟨fun t n => absurd (Nat.zero_lt_of_lt n.isLt) (hd5 t), ?_⟩
    exact fun t n => absurd (Nat.zero_lt_of_lt n.isLt) (hd5 t)
  · iterate 10 refine ⟨fun t n => absurd (Nat.zero_lt_of_lt n.isLt) (hd5 t), ?_⟩
    refine ⟨dead_ok (pairsW_int ha hb hab hbN) (by omega), ?_⟩
    iterate 20 refine ⟨fun t => absurd (Nat.zero_lt_of_lt t.isLt) hd6, ?_⟩
    exact fun t => absurd (Nat.zero_lt_of_lt t.isLt) hd6
  · iterate 31 refine ⟨fun t => absurd (Nat.zero_lt_of_lt t.isLt) hd6, ?_⟩
    exact fun t => absurd (Nat.zero_lt_of_lt t.isLt) hd6
  · iterate 18 refine ⟨fun t => absurd (Nat.zero_lt_of_lt t.isLt) hd6, ?_⟩
    exact fun t => absurd (Nat.zero_lt_of_lt t.isLt) hd6

end

end Cert.Proof.Pool
-- ==== Proof.Pool.Staged.lean ====
/-
  The rows of results a tile gathers in its two 16 by 256 buffers: one row per segment, written sixteen columns at a time.
-/
module

public import proofs.«01_k».proof.Proof.Pool.Check
public import Idealize.ShloMosaic.Lib.WritesUnit
public import Idealize.ShloMosaic.Lib.Exec.Geometry

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Affine (IsInt)

variable {F : FTy → Type} [FloatOps F]

/-! ## The values, column by column -/

/-- The sum of column `c` of rows `a, …, a + n - 1`, -/
def colS (X : S100000x512.Idx → F .f32) (a c : ℕ) : ℕ → F .f32
  | 0 => Scalar.ofBits .f32 0x00000000#32
  | n + 1 => FloatOps.addf (colS X a c n) (atRC X (a + n) c)
/-- and its maximum. -/
def colM (X : S100000x512.Idx → F .f32) (a c : ℕ) : ℕ → F .f32
  | 0 => Scalar.ofBits .f32 0xFF800000#32
  | n + 1 => FloatOps.maximumf (colM X a c n) (atRC X (a + n) c)

theorem accS_col (X : S100000x512.Idx → F .f32) (a c n : ℕ) (l : S16.Idx) : accS X a c n l = colS X a (c + (l 0).val) n := by
  induction n with
  | zero => rfl
  | succ n ih => exact congrArg (fun z => FloatOps.addf z _) ih
theorem accM_col (X : S100000x512.Idx → F .f32) (a c n : ℕ) (l : S16.Idx) : accM X a c n l = colM X a (c + (l 0).val) n := by
  induction n with
  | zero => rfl
  | succ n ih => exact congrArg (fun z => FloatOps.maximumf z _) ih

/-! ## One row's sixteen writes -/

theorem cell_inb {m j : ℕ} (hm : m < 16) (hj : j < 16) : ∀ a, (![m, 16 * j] : Fin 2 → ℕ) a + S1x16.size a ≤ S16x256.size a := by
  intro a
  match a with
  | 0 => show m + 1 ≤ 16; omega
  | 1 => show 16 * j + 16 ≤ 256; omega

/-- The first `n` writes of row `m`, the last first. -/
def rowPieces {m : ℕ} (hm : m < 16) (v : Fin 16 → V16 F) : (n : ℕ) → n ≤ 16 → List (View.Piece (Elt F) S16x256 .f32)
  | 0, _ => []
  | n + 1, h => ⟨Rect.unit (s := S16x256) ![m, 16 * n] S1x16.size (cell_inb hm h), shapeCast S1x16 (v ⟨n, h⟩) shapeCasts_S16_S1x16⟩ :: rowPieces hm v n (Nat.le_of_succ_le h)

variable {sp : Space} (V : View sig .scVector sp S16x256 .f32)

theorem read_rowPieces {m : ℕ} (hm : m < 16) (v : Fin 16 → V16 F) (g : V.ty.Contents (Elt F)) (G : ℕ → F .f32)
    (hv : ∀ (j : Fin 16) (l : S16.Idx), v j l = G (16 * j.val + (l 0).val)) : ∀ (n : ℕ) (h : n ≤ 16) (y : S16x256.Idx),
    V.read (Elt F) (V.writes (Elt F) g (rowPieces hm v n h)) y = if (y 0).val = m ∧ (y 1).val < 16 * n then G (y 1).val else V.read (Elt F) g y
  | 0, _, y => (if_neg (by omega)).symm
  | n + 1, h, y => by
    rw [rowPieces, View.read_writes_cons_unit V g _ _ _ y rfl]
    have ih := read_rowPieces hm v g G hv n (Nat.le_of_succ_le h) y
    by_cases hy : (y 0).val = m ∧ 16 * n ≤ (y 1).val ∧ (y 1).val < 16 * n + 16
    · have hin : ∀ a, (![m, 16 * n] : Fin 2 → ℕ) a ≤ (y a).val ∧ (y a).val < (![m, 16 * n] : Fin 2 → ℕ) a + S1x16.size a := by
        intro a
        match a with
        | 0 => exact ⟨hy.1.ge, Nat.lt_succ_of_le hy.1.le⟩
        | 1 => exact ⟨hy.2.1, hy.2.2⟩
      rw [dif_pos hin, if_pos ⟨hy.1, by omega⟩]
      have hl : (y 1).val - 16 * n < 16 := by omega
      refine (congrArg (shapeCast S1x16 (v ⟨n, h⟩) shapeCasts_S16_S1x16) (?_ : _ = ix2 (0 : Fin 1) (⟨(y 1).val - 16 * n, hl⟩ : Fin 16))).trans ?_
      · funext a
        refine Fin.ext ((Rect.unitLocal_val _ _ _).trans ?_)
        match a with
        | 0 => show (y 0).val - m = 0; omega
        | 1 => rfl
      · refine (shapeCast_a_1a_apply _ _ _ _).trans ((hv _ _).trans (congrArg G ?_))
        show 16 * n + ((y 1).val - 16 * n) = (y 1).val
        omega
    · rw [dif_neg (fun hin => hy ⟨by have h0 := hin 0; have h1 : m ≤ (y 0).val ∧ (y 0).val < m + 1 := h0; omega, hin 1⟩), ih]
      by_cases hc : (y 0).val = m ∧ (y 1).val < 16 * n
      · rw [if_pos hc, if_pos ⟨hc.1, by omega⟩]
      · rw [if_neg hc, if_neg (by omega)]

/-- The rows below `m` hold what `G` says. -/
def Staged (G : ℕ → ℕ → F .f32) (m : ℕ) (g : V.ty.Contents (Elt F)) : Prop := ∀ y : S16x256.Idx, (y 0).val < m → V.read (Elt F) g y = G (y 0).val (y 1).val

theorem staged_succ {G : ℕ → ℕ → F .f32} {m : ℕ} (hm : m < 16) {v : Fin 16 → V16 F} {g : V.ty.Contents (Elt F)} (hg : Staged V G m g)
    (hv : ∀ (j : Fin 16) (l : S16.Idx), v j l = G m (16 * j.val + (l 0).val)) :
    Staged V G (m + 1) (V.writes (Elt F) g (rowPieces hm v 16 le_rfl)) := by
  intro y hy
  rw [read_rowPieces V hm v g (G m) hv 16 le_rfl y]
  have h1 : (y 1).val < 256 := (y 1).isLt
  by_cases h : (y 0).val = m
  · rw [if_pos ⟨h, by omega⟩, h]
  · rw [if_neg (fun hc => h hc.1), hg y (by omega)]

/-- A row's writes folded into the statement of the rows below. -/
theorem fold_row (Φ : V.ty.Contents (Elt F) → sProp (MM F)) {G : ℕ → ℕ → F .f32} {m : ℕ} (hm : m < 16) {v : Fin 16 → V16 F} {g f : V.ty.Contents (Elt F)}
    (hg : Staged V G m g) (hv : ∀ (j : Fin 16) (l : S16.Idx), v j l = G m (16 * j.val + (l 0).val)) (hf : f = V.writes (Elt F) g (rowPieces hm v 16 le_rfl)) :
    Φ f ⊢ iprop(∃ g', ⌜Staged V G (m + 1) g'⌝ ∗ Φ g') := by
  subst hf
  iintro H
  iexists _
  isplitr
  swap; · iexact H
  ipureintro; exact staged_succ V hm hg hv

/-! ## The two results -/

/-- The sums of the segments `[St k, St (k + 1))` of rows of `x`, -/
def pooledS (X : S100000x512.Idx → F .f32) (St : ℕ → ℕ) : S256x512.Idx → F .f32 :=
  fun i => colS X (St (i 0).val) (i 1).val (St ((i 0).val + 1) - St (i 0).val)
/-- and their maxima. -/
def pooledM (X : S100000x512.Idx → F .f32) (St : ℕ → ℕ) : S256x512.Idx → F .f32 :=
  fun i => colM X (St (i 0).val) (i 1).val (St ((i 0).val + 1) - St (i 0).val)

section
variable (L : grid1.Coords) (X : S100000x512.Idx → F .f32) (St : ℕ → ℕ)

/-- The tile's first segment. -/
abbrev segN (L : grid1.Coords) : ℕ := 16 * (L 1).val

/-- The sum of the tile's segment `r` in its column `c`, -/
def sumG (r c : ℕ) : F .f32 := colS X (St (segN L + r)) (colN L + c) (St (segN L + r + 1) - St (segN L + r))
/-- and its maximum. -/
def maxG (r c : ℕ) : F .f32 := colM X (St (segN L + r)) (colN L + c) (St (segN L + r + 1) - St (segN L + r))

abbrev sumV (m : ℕ) (j : Fin 16) : V16 F := accS X (St (segN L + m)) (colN L + 16 * j.val) (St (segN L + m + 1) - St (segN L + m))
abbrev maxV (m : ℕ) (j : Fin 16) : V16 F := accM X (St (segN L + m)) (colN L + 16 * j.val) (St (segN L + m + 1) - St (segN L + m))

theorem sumV_eq (m : ℕ) (j : Fin 16) (l : S16.Idx) : sumV L X St m j l = sumG L X St m (16 * j.val + (l 0).val) := by
  rw [sumV, accS_col, sumG, Nat.add_assoc]
theorem maxV_eq (m : ℕ) (j : Fin 16) (l : S16.Idx) : maxV L X St m j l = maxG L X St m (16 * j.val + (l 0).val) := by
  rw [maxV, accM_col, maxG, Nat.add_assoc]

theorem outOff_eq : k1_off2194 L = ![segN L, colN L] := by
  rw [show k1_off2194 L = ![(segW (L 0).val (L 1).val).toNat, (colW (L 0).val (L 1).val).toNat] from rfl, segW_nat (L 0).isLt (L 1).isLt, colW_nat (L 0).isLt (L 1).isLt]

/-- The tile's part of the two results. -/
abbrev tileRect (L : grid1.Coords) : Rect S256x512 := Rect.unit (s := S256x512) (k1_off2194 L) S16x256.size (k1_off2194_inb L)
abbrev sumTile (L : grid1.Coords) : Memref sig .scVector .hbm S16x256 .f32 := sumM.slice (tileRect L) (fun _ => rfl)
abbrev maxTile (L : grid1.Coords) : Memref sig .scVector .hbm S16x256 .f32 := maxM.slice (tileRect L) (fun _ => rfl)

theorem rect_val (y : S16x256.Idx) : ((tileRect L).emb y 0).val = segN L + (y 0).val ∧ ((tileRect L).emb y 1).val = colN L + (y 1).val := by
  have h := outOff_eq L
  constructor
  · show k1_off2194 L 0 + 1 * (y 0).val = _
    rw [h, Nat.one_mul]; rfl
  · show k1_off2194 L 1 + 1 * (y 1).val = _
    rw [h, Nat.one_mul]; rfl

theorem read_sumTile (y : S16x256.Idx) : (sumTile L).view.read (Elt F) (pooledS X St) y = sumG L X St (y 0).val (y 1).val := by
  show pooledS X St ((tileRect L).emb y) = _
  rw [pooledS, (rect_val L y).1, (rect_val L y).2]; rfl
theorem read_maxTile (y : S16x256.Idx) : (maxTile L).view.read (Elt F) (pooledM X St) y = maxG L X St (y 0).val (y 1).val := by
  show pooledM X St ((tileRect L).emb y) = _
  rw [pooledM, (rect_val L y).1, (rect_val L y).2]; rfl
end

/-- Contents that read the same through a view agree where the view lies. -/
theorem agree_of_read {sp : Space} {s : Shape} {T : View sig .scVector sp s .f32} {f h : T.ty.Contents (Elt F)}
    (e : ∀ y, T.read (Elt F) f y = T.read (Elt F) h y) : ∀ i ∈ T.set, f i = h i := by
  intro i hi
  obtain ⟨y, -, rfl⟩ := Finset.mem_map.mp hi
  have := e y
  rw [View.read_apply, View.read_apply] at this
  exact (cast_inj _).mp this

/-- The sixteen staged rows copied out. -/
theorem copied_out {spT spV : Space} {T : View sig .scVector spT S16x256 .f32} {V : View sig .scVector spV S16x256 .f32} {G : ℕ → ℕ → F .f32}
    {v : Fin 16 → V16 F} {g : V.ty.Contents (Elt F)} {h f : T.ty.Contents (Elt F)} {w : S16x256.Idx → F .f32}
    (hT : ∀ y, T.read (Elt F) h y = G (y 0).val (y 1).val) (hg : Staged V G 15 g) (hv : ∀ (j : Fin 16) (l : S16.Idx), v j l = G 15 (16 * j.val + (l 0).val))
    (hw : w = V.read (Elt F) (V.writes (Elt F) g (rowPieces (by decide : 15 < 16) v 16 le_rfl))) :
    ∀ i ∈ T.set, T.writes (Elt F) f [⟨Rect.whole S16x256, w⟩] i = h i := by
  refine agree_of_read fun y => ?_
  rw [View.read_writes_whole, hT, hw]
  exact staged_succ V (by decide) hg hv y (y 0).isLt

theorem hold_out (d : Dev nD) (L : grid1.Coords) {spT spV : Space} {T : View sig .scVector spT S16x256 .f32} {V : View sig .scVector spV S16x256 .f32}
    {G : ℕ → ℕ → F .f32} {v : Fin 16 → V16 F} {g : V.ty.Contents (Elt F)} {h f : T.ty.Contents (Elt F)} {w : S16x256.Idx → F .f32}
    (hT : ∀ y, T.read (Elt F) h y = G (y 0).val (y 1).val) (hg : Staged V G 15 g) (hv : ∀ (j : Fin 16) (l : S16.Idx), v j l = G 15 (16 * j.val + (l 0).val))
    (hw : w = V.read (Elt F) (V.writes (Elt F) g (rowPieces (by decide : 15 < 16) v 16 le_rfl))) :
    (T.loc (thr d L) ↦[T.set]{fullShare} T.writes (Elt F) f [⟨Rect.whole S16x256, w⟩]) ⊢ (T.loc (thr d L) ↦[T.set]{fullShare} h : sProp (MM F)) :=
  Entails.of_eq (pointsTo_congr (copied_out hT hg hv hw))

end Cert.Proof.Pool
-- ==== Proof.Pool.Walk.lean ====
/-
  One tile's run from end to end.
-/
module

public import proofs.«01_k».proof.Proof.Pool.Staged

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx
open Idealize.ShloMosaic.Affine (IsInt)

variable {F : FTy → Type} [FloatOps F]

variable (d : Dev nD) (L : grid1.Coords) (qx qs : PosShare TreeShare) (X : S100000x512.Idx → F .f32)

/-- The tile's part of the table of starts. -/
abbrev startsTile (L : grid1.Coords) : Memref sig .scVector .hbm S32 .i32 :=
  startsM.slice (Rect.unit (s := S272) (k1_off1 L) S32.size (k1_off1_inb L)) (fun _ => rfl)
/-- What the tile's copy leaves in its table of 32 row numbers, -/
def table (f5 : S272.Idx → BitVec 32) (fr : S32.Idx → BitVec 32) : S32.Idx → BitVec 32 :=
  View.write (Elt F) rowsM.view fr (ReadAs.same.apply (View.read (Elt F) (startsTile L).view f5)) Finset.univ
/-- its first and its second half, as loaded, -/
def half (f5 : S272.Idx → BitVec 32) (fr : S32.Idx → BitVec 32) (o : Fin 1 → ℕ) (inb : ∀ a, o a + S16.size a ≤ S32.size a) : IVec S16 32 :=
  shapeCast S16 (View.readAt (Elt F) rowsM.view (Rect.unit (s := S32) o S16.size inb).toLoadRect (table (F := F) L f5 fr)) shapeCasts_S16_S16
theorem lo_inb : ∀ a, (![0] : Fin 1 → ℕ) a + S16.size a ≤ S32.size a := by decide
theorem hi_inb : ∀ a, (![16] : Fin 1 → ℕ) a + S16.size a ≤ S32.size a := by decide
theorem cut_slices (m : Fin 16) : S16.Slices ![m.val] S1 := by revert m; decide
/-- and its word `m`, as the kernel takes it out. -/
def word (f5 : S272.Idx → BitVec 32) (fr : S32.Idx → BitVec 32) (m : ℕ) : BitVec 32 :=
  extractAt ![0] (extractStridedSlice S1 ![m % 16]
    (if m < 16 then half (F := F) L f5 fr ![0] lo_inb else half (F := F) L f5 fr ![16] hi_inb) (cut_slices ⟨m % 16, Nat.mod_lt _ (by decide)⟩)) inpos_S1_p0

/-- What is known of one segment's two row numbers. -/
structure SegAt (w0 w1 : BitVec 32) (a b : ℕ) : Prop where
  lo : IsInt w0 a
  hi : IsInt w1 b
  le : a ≤ b
  top : b ≤ 100000

theorem SegAt.start {w0 w1 : BitVec 32} {a b : ℕ} (h : SegAt w0 w1 a b) : IsInt (Scalar.addi w0 0#32) a :=
  have := h.le; have := h.top; Affine.addi h.lo (lit 0) (by omega)
theorem SegAt.start_lt {w0 w1 : BitVec 32} {a b : ℕ} (h : SegAt w0 w1 a b) : a < 2 ^ 31 := by have := h.le; have := h.top; omega

/-- A property of `n` numbers from `k` on, one after the other. -/
def Chain (P : ℕ → Prop) : ℕ → ℕ → Prop
  | 0, _ => True
  | n + 1, k => P k ∧ Chain P n (k + 1)
theorem chain_of {P : ℕ → Prop} : ∀ {n k : ℕ}, (∀ i, k ≤ i → i < k + n → P i) → Chain P n k
  | 0, _, _ => trivial
  | n + 1, k, h => ⟨h k le_rfl (by omega), chain_of fun i h1 h2 => h i (by omega) (by omega)⟩

theorem wp_assume_chk {R : Type} {r0 r1 : BitVec 32} {a b : ℕ} (hm : SegAt r0 r1 a b) {P : Prop} {dP : Decidable P} {k : PLift P → Prog (TE F L) R} (Q : R → sProp (MM F))
    (hP : P = k1_chk1 L r0 r1) :
    iprop(∀ h : PLift P, wp frame (wpE (defs₀ (F := F)) 𝒱₀ (thr d L) none) Set.univ (k h) Q)
      ⊢ wp frame (wpE (defs₀ (F := F)) 𝒱₀ (thr d L) none) Set.univ (.op (.assume P dP) k) Q := by
  have hc : P := hP ▸ chk_all hm.lo hm.hi hm.le hm.top L
  rw [wp_assume_of 𝒱₀ (thr d L) none Set.univ hc]
  iintro H
  iapply H

/-- The tile's run: its sixteen segments' sums and maxima, in its 256 columns, land in the two results. -/
theorem tile_walk (f5 : S272.Idx → BitVec 32) (fr : S32.Idx → BitVec 32) (St : ℕ → ℕ)
    (hC : Chain (fun m => SegAt (word (F := F) L f5 fr m) (word (F := F) L f5 fr (m + 1)) (St (segN L + m)) (St (segN L + m + 1))) 16 0)
    {O : CellTallies nD τ sig (HIx 1)} {W : Waits sig (HIx 1)}
    (fs fm : S256x512.Idx → F .f32) (gs gm : S16x256.Idx → F .f32) :
    iprop(Transfers.MayWaits (thr d L) (default : HIx 1) O ∗ owes (thr d L) O W ∗ xShare d L qx X ∗ ((startsTile L).view.loc (thr d L) ↦[(startsTile L).view.set]{qs} f5)
        ∗ ((sumTile L).view.loc (thr d L) ↦[(sumTile L).view.set]{fullShare} fs) ∗ ((maxTile L).view.loc (thr d L) ↦[(maxTile L).view.set]{fullShare} fm)
        ∗ (rowsM.view.loc (thr d L) ↦{fullShare} fr) ∗ Rest (F := F) d L bufA cc1_scratch5 ∗ Rest (F := F) d L bufB cc1_scratch6
        ∗ (stSum.view.loc (thr d L) ↦{fullShare} gs) ∗ (stMax.view.loc (thr d L) ↦{fullShare} gm)
        ∗ semVal (thr d L, SemLoc.dma cc1_scoped0.sem) 0 ∗ semVal (thr d L, SemLoc.dma cc1_scoped1.sem) 0 ∗ semVal (thr d L, SemLoc.dma cc1_scoped2.sem) 0)
      ⊢ wp frame (wpE (defs₀ (F := F)) 𝒱₀ (thr d L) none) Set.univ
          (cc1__pool_body L xM (Memref.isWhole_whole _) startsM (Memref.isWhole_whole _) sumM (Memref.isWhole_whole _) maxM (Memref.isWhole_whole _)
            rowsM (Memref.isWhole_whole _) bufA (Memref.isWhole_whole _) bufB (Memref.isWhole_whole _) stSum (Memref.isWhole_whole _) stMax (Memref.isWhole_whole _)
            cc1_scratch5 cc1_scratch6 cc1_scoped0 cc1_scoped1 cc1_scoped2)
          fun _ => iprop(xShare d L qx X ∗ ((startsTile L).view.loc (thr d L) ↦[(startsTile L).view.set]{qs} f5)
            ∗ ((sumTile L).view.loc (thr d L) ↦[(sumTile L).view.set]{fullShare} pooledS X St) ∗ ((maxTile L).view.loc (thr d L) ↦[(maxTile L).view.set]{fullShare} pooledM X St)
            ∗ (∃ fr, rowsM.view.loc (thr d L) ↦{fullShare} fr) ∗ Rest (F := F) d L bufA cc1_scratch5 ∗ Rest (F := F) d L bufB cc1_scratch6
            ∗ (∃ g, stSum.view.loc (thr d L) ↦{fullShare} g) ∗ (∃ g, stMax.view.loc (thr d L) ↦{fullShare} g)
            ∗ semVal (thr d L, SemLoc.dma cc1_scoped0.sem) 0 ∗ semVal (thr d L, SemLoc.dma cc1_scoped1.sem) 0 ∗ semVal (thr d L, SemLoc.dma cc1_scoped2.sem) 0
            ∗ Owing d L O W) := by
  iintro ⟨#Hmw, HO, HX, Hst, Hsum, Hmax, Hrows, HA, HB, Hs, Hm, H0, H1, H2⟩
  unfold cc1__pool_body
  sl_exec
  ihave HO := (show owes (thr d L) O _ ⊢ Owing (F := F) d L O W from ?_) $$ HO
  · unfold Owing
    iintro H
    iexists _
    isplitr
    swap; · iexact H
    ipureintro; intro p hp
    rcases Finset.mem_insert.mp hp with hp | hp; · exact .inr (hp ▸ rfl)
    exact .inl hp
  have hgs : Staged stSum.view (sumG L X St) 0 gs := fun _ hy => absurd hy (Nat.not_lt_zero _)
  have hgm : Staged stMax.view (maxG L X St) 0 gm := fun _ hy => absurd hy (Nat.not_lt_zero _)
  iterate 15
    obtain ⟨hm, hC⟩ := hC
    iapply (wp_assume_chk d L hm _ ?_)
    · sl_kernel_rfl
    iintro %hw
    set_option sl_exec.stopBefore "Eq" in sl_exec
    iapply (wp_prime d L qx X bufA (Memref.isWhole_whole _) (View.set_whole _) (by decide) cc1_scratch5
      hm.start hm.start_lt (fun _ => fetch_inb L hm.start hm.start_lt) (posW_iff hm.lo hm.hi hm.le hm.top) _ ?_)
    · sl_kernel_rfl
    isplitl [HX]; · iexact HX
    isplitl [HA]; · iexact HA
    iintro HA
    sl_exec
    iapply (wp_pairs d L qx X hm.lo hm.hi hm.le hm.top (chk_all hm.lo hm.hi hm.le hm.top L) _ ?_)
    · sl_kernel_rfl
    isplitr; · iexact Hmw
    isplitl [HO]; · iexact HO
    isplitl [HB]; · iexact HB
    isplitl [HA]; · iexact HA
    iintro ⟨HO, HX, HA, HB⟩
    sl_exec
    ihave Hs := (fold_row stSum.view (fun g => (stSum.view.loc (thr d L) ↦{fullShare} g)) (by decide) hgs (sumV_eq L X St _) ?_) $$ Hs
    · sl_kernel_rfl
    ihave Hm := (fold_row stMax.view (fun g => (stMax.view.loc (thr d L) ↦{fullShare} g)) (by decide) hgm (maxV_eq L X St _) ?_) $$ Hm
    · sl_kernel_rfl
    clear hm hgs hgm
    icases Hs with ⟨%gs, %hgs, Hs⟩
    icases Hm with ⟨%gm, %hgm, Hm⟩
  obtain ⟨hm, hC⟩ := hC
  iapply (wp_assume_chk d L hm _ ?_)
  · sl_kernel_rfl
  iintro %hw
  set_option sl_exec.stopBefore "Eq" in sl_exec
  iapply (wp_prime d L qx X bufA (Memref.isWhole_whole _) (View.set_whole _) (by decide) cc1_scratch5
    hm.start hm.start_lt (fun _ => fetch_inb L hm.start hm.start_lt) (posW_iff hm.lo hm.hi hm.le hm.top) _ ?_)
  · sl_kernel_rfl
  isplitl [HX]; · iexact HX
  isplitl [HA]; · iexact HA
  iintro HA
  sl_exec
  iapply (wp_pairs d L qx X hm.lo hm.hi hm.le hm.top (chk_all hm.lo hm.hi hm.le hm.top L) _ ?_)
  · sl_kernel_rfl
  isplitr; · iexact Hmw
  isplitl [HO]; · iexact HO
  isplitl [HB]; · iexact HB
  isplitl [HA]; · iexact HA
  iintro ⟨HO, HX, HA, HB⟩
  unfold Owing
  icases HO with ⟨%W1, %hW1, HO⟩
  sl_exec
  ihave Hsum := (hold_out d L (read_sumTile L X St) hgs (sumV_eq L X St 15) ?_) $$ Hsum
  · sl_kernel_rfl
  ihave Hmax := (hold_out d L (read_maxTile L X St) hgm (maxV_eq L X St 15) ?_) $$ Hmax
  · sl_kernel_rfl
  sl_step
  isplitl [HX]; · iexact HX
  isplitl [Hst]; · iexact Hst
  isplitl [Hsum]; · iexact Hsum
  isplitl [Hmax]; · iexact Hmax
  isplitl [Hrows]; · iexists _; iexact Hrows
  isplitl [HA]; · iexact HA
  isplitl [HB]; · iexact HB
  isplitl [Hs]; · iexists _; iexact Hs
  isplitl [Hm]; · iexists _; iexact Hm
  isplitl [H0]; · iexact H0
  isplitl [H1]; · iexact H1
  isplitl [H2]; · iexact H2
  iexists _
  isplitr
  swap; · iexact HO
  ipureintro; intro p hp
  rcases Finset.mem_insert.mp hp with hp | hp; · exact .inr (hp ▸ rfl)
  rcases Finset.mem_insert.mp hp with hp | hp; · exact .inr (hp ▸ rfl)
  exact hW1 p hp

end Cert.Proof.Pool
-- ==== Proof.Pool.Table.lean ====
/-
  The tile's table of row numbers: its word `m` is the entry `16 s + m` of the table of starts.
-/
module

public import proofs.«01_k».proof.Proof.Pool.Walk

@[expose] public section

noncomputable section

namespace Cert.Proof.Pool

open Cert.KernelIdeal Cert.KernelIdeal.Gen

open Idealize.ShloMosaic
open Idealize.ShloMosaic.Tactic Idealize.ShloMosaic.ValueIdx
open Idealize.ShloMosaic.Affine (IsInt)

variable {F : FTy → Type} [FloatOps F] (L : grid1.Coords)

theorem startOff_eq : k1_off1 L = ![segN L] := by
  rw [show k1_off1 L = ![(segW (L 0).val (L 1).val).toNat] from rfl, segW_nat (L 0).isLt (L 1).isLt]

theorem startsTile_val (y : S32.Idx) : ((startsTile L).view.emb y 0).val = segN L + (y 0).val := by
  show k1_off1 L 0 + 1 * (y 0).val = _
  rw [startOff_eq, Nat.one_mul]; rfl

theorem table_apply (f5 : S272.Idx → BitVec 32) (fr : S32.Idx → BitVec 32) (y : S32.Idx) :
    table (F := F) L f5 fr y = f5 ((startsTile L).view.emb y) := by
  unfold table
  rw [show View.write (Elt F) rowsM.view fr (ReadAs.same.apply (View.read (Elt F) (startsTile L).view f5)) Finset.univ
    = ReadAs.same.apply (View.read (Elt F) (startsTile L).view f5) from View.write_whole_univ _ _ _]
  rfl

theorem half_apply (f5 : S272.Idx → BitVec 32) (fr : S32.Idx → BitVec 32) (o : Fin 1 → ℕ) (inb : ∀ a, o a + S16.size a ≤ S32.size a) (y : S16.Idx) :
    half (F := F) L f5 fr o inb y = table (F := F) L f5 fr ((Rect.unit (s := S32) o S16.size inb).emb y) := by
  unfold half
  rw [show ∀ v : S16.Idx → BitVec 32, shapeCast S16 v shapeCasts_S16_S16 = v from fun v => shapeCast_self v _]
  rfl

/-- The table's entry `k`. -/
def entry (f5 : S272.Idx → BitVec 32) (k : ℕ) : BitVec 32 := f5 (ix1 (Fin.ofNat 272 k))

theorem word_eq (f5 : S272.Idx → BitVec 32) (fr : S32.Idx → BitVec 32) {m : ℕ} (hm : m < 32) : word (F := F) L f5 fr m = entry f5 (segN L + m) := by
  have hs : segN L + m < 272 := by
      have : (L 1).val < 16 := (L 1).isLt
      unfold segN; omega
  have key : ∀ y : S32.Idx, (y 0).val = m → table (F := F) L f5 fr y = entry f5 (segN L + m) := by
    intro y hy
    rw [table_apply, entry]
    refine congrArg f5 (funext fun a => ?_)
    obtain rfl : a = (0 : Fin 1) := Subsingleton.elim (α := Fin 1) _ _
    refine Fin.ext ((startsTile_val L y).trans ?_)
    rw [hy]
    exact (Nat.mod_eq_of_lt hs).symm
  unfold word
  rw [extractAt, extractStridedSlice]
  split_ifs with h
  · rw [half_apply]
    refine key _ ?_
    show 0 + 1 * (m % 16 + 0) = m
    rw [Nat.mod_eq_of_lt h]; omega
  · rw [half_apply]
    refine key _ ?_
    show 16 + 1 * (m % 16 + 0) = m
    omega

/-- What the pooling kernel needs of its table: the entries are row numbers, none above the next. -/
structure Starts (f5 : S272.Idx → BitVec 32) (St : ℕ → ℕ) : Prop where
  is : ∀ k, k ≤ 256 → IsInt (entry f5 k) (St k)
  mono : ∀ k, k < 256 → St k ≤ St (k + 1)
  top : ∀ k, k ≤ 256 → St k ≤ 100000

theorem Starts.chain {f5 : S272.Idx → BitVec 32} {St : ℕ → ℕ} (h : Starts f5 St) (fr : S32.Idx → BitVec 32) :
    Chain (fun m => SegAt (word (F := F) L f5 fr m) (word (F := F) L f5 fr (m + 1)) (St (segN L + m)) (St (segN L + m + 1))) 16 0 :=
  chain_of fun m _ hm => by
    have hb : segN L + m + 1 ≤ 256 := by
      have : (L 1).val < 16 := (L 1).isLt
      unfold segN; omega
    refine ⟨?_, ?_, h.mono _ (by omega), h.top _ hb⟩
    · rw [word_eq L f5 fr (by omega)]; exact h.is _ (by omega)
    · rw [word_eq L f5 fr (by omega)]; exact h.is _ hb

end Cert.Proof.Pool
-- ==== Proof.Pool.Tile.lean ====
/-
  One tile's task as the launch asks for it: what it is given, its own buffers and semaphores taken out of all the
  subcore owns, the run, and everything handed back.
-/
module

public import proofs.«01_k».proof.Proof.Pool.Table

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

/-! ## Taking several members out of a family -/

/-- The members of a list, one after the other, and then the rest. -/
def taken {I M : Type} [URA M] (Φ : I → sProp M) : List I → sProp M → sProp M
  | [], R => R
  | a :: l, R => iprop(Φ a ∗ taken Φ l R)

theorem bigSep_taken {I M : Type} [URA M] [DecidableEq I] (Φ : I → sProp M) :
    ∀ (l : List I) (S : Finset I), l.Nodup → (∀ a ∈ l, a ∈ S) → bigSep S Φ = taken Φ l (bigSep (l.foldl Finset.erase S) Φ)
  | [], _, _, _ => rfl
  | a :: l, S, hn, hm => by
    have hn' := List.nodup_cons.mp hn
    rw [SparseCore.bigSep_erase' (hm a (List.mem_cons_self)), taken,
      bigSep_taken Φ l (S.erase a) hn'.2 fun b hb => Finset.mem_erase.mpr ⟨fun e => hn'.1 (e ▸ hb), hm b (List.mem_cons_of_mem _ hb)⟩]
    rfl

/-- The tile's semaphores, and its buffers. -/
abbrev semList : List (SemLoc sig) := [.dma cc1_scratch5.sem, .dma cc1_scratch6.sem, .dma cc1_scoped0.sem, .dma cc1_scoped1.sem, .dma cc1_scoped2.sem]
abbrev bufList : List (Ref sig .scVector) := [cc1_scratch0, cc1_scratch1, cc1_scratch2, cc1_scratch3, cc1_scratch4]
theorem bufList_nodup : bufList.Nodup := by decide

variable (d : Dev nD) (L : grid1.Coords)

theorem ownSems0_tile :
    (ownSems0 (thr d L) : sProp (MM F)) = taken (fun g => semVal g 0) (semList.map (Prod.mk (thr d L)))
      (bigSep ((semList.map (Prod.mk (thr d L))).foldl Finset.erase (ownCells (thr d L))) fun g => semVal g 0) := by
  unfold SparseCore.Cfg.ownSems0
  refine bigSep_taken _ _ _ (List.Nodup.map (Prod.mk_right_injective _) (by decide)) fun g hg => ?_
  obtain ⟨s, hs, rfl⟩ := List.mem_map.mp hg
  exact mem_ownCells.mpr ⟨rfl, (by decide : ∀ s ∈ semList, s.isScoped .scVector = true) s hs⟩

theorem ownBufs_tile :
    (ownBufs (thr d L) : sProp (MM F))
      = taken (fun b => iprop(∃ f, ((d, b) : Loc nD τ sig) ↦{fullShare} f)) (bufList.map (Proc.scVector (cV L) (jV L)).devRef)
          (bigSep ((bufList.map (Proc.scVector (cV L) (jV L)).devRef).foldl Finset.erase (ownRefs (τ := τ) (.scVector (cV L) (jV L))))
            fun b => iprop(∃ f, ((d, b) : Loc nD τ sig) ↦{fullShare} f)) := by
  unfold SparseCore.Cfg.ownBufs
  refine bigSep_taken _ _ _ (List.Nodup.map (Proc.devRef_injective _) bufList_nodup) fun b hb => ?_
  obtain ⟨r, hr, rfl⟩ := List.mem_map.mp hb
  refine SparseCore.Cfg.mem_ownRefs_of_owner (p := Proc.scVector (cV L) (jV L)) (b := (Proc.scVector (cV L) (jV L)).devRef r) ?_
  rcases List.mem_cons.mp hr with rfl | hr; · rfl
  rcases List.mem_cons.mp hr with rfl | hr; · rfl
  rcases List.mem_cons.mp hr with rfl | hr; · rfl
  rcases List.mem_cons.mp hr with rfl | hr; · rfl
  rcases List.mem_cons.mp hr with rfl | hr; · rfl
  exact absurd hr List.not_mem_nil

variable [FloatOps F]

/-- A scratch buffer at some contents, and its semaphore down. -/
theorem rest_of (buf : Memref sig .scVector .vmem S72x256 .f32) (sem : DmaSems sig S_) :
    iprop((∃ f, buf.view.loc (thr d L) ↦{fullShare} f) ∗ semVal (thr d L, SemLoc.dma sem.sem) 0) ⊢ Rest (F := F) d L buf sem := by
  unfold Rest Holds
  iintro ⟨⟨%f, Hf⟩, Hs⟩
  isplitl [Hf]
  · iexists _
    iexists f
    isplitl [Hf]; · iexact Hf
    ipureintro; rfl
  iexact Hs
theorem of_rest (buf : Memref sig .scVector .vmem S72x256 .f32) (sem : DmaSems sig S_) :
    Rest (F := F) d L buf sem ⊢ iprop((∃ f, buf.view.loc (thr d L) ↦{fullShare} f) ∗ semVal (thr d L, SemLoc.dma sem.sem) 0) := by
  unfold Rest Holds
  iintro ⟨⟨%w, %f, Hf, -⟩, Hs⟩
  isplitl [Hf]; · iexists f; iexact Hf
  iexact Hs

variable (q : PosShare TreeShare) (X : S100000x512.Idx → F .f32) (f5 : S272.Idx → BitVec 32)

/-- What a task is given: a share of `x` and of the table of starts, and its part of the two results; -/
def tileIn (fs fm : S256x512.Idx → F .f32) : sProp (MM F) :=
  iprop(xShare d L q X ∗ (startsM.view.loc (thr d L) ↦[Finset.univ]{q} f5)
    ∗ ((sumTile L).view.loc (thr d L) ↦[(sumTile L).view.set]{fullShare} fs) ∗ ((maxTile L).view.loc (thr d L) ↦[(maxTile L).view.set]{fullShare} fm))

set_option maxRecDepth 4096 in
/-- The task: its part of the two results is left at the segments' sums and maxima. -/
theorem tile_body (hF : (K (F := F)).Facts) {St : ℕ → ℕ} (hSt : Starts f5 St) (fs fm : S256x512.Idx → F .f32)
    (O : CellTallies nD τ sig (HIx 1)) (W : Waits sig (HIx 1)) (hO : ∀ g, O g none = 0) :
    iprop(levAts (K (F := F)).L (K (F := F)).lev ∗ emp ∗ tileIn d L q X f5 fs fm
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__pool_body L xM (Memref.isWhole_whole _) startsM (Memref.isWhole_whole _) sumM (Memref.isWhole_whole _) maxM (Memref.isWhole_whole _)
            rowsM (Memref.isWhole_whole _) bufA (Memref.isWhole_whole _) bufB (Memref.isWhole_whole _) stSum (Memref.isWhole_whole _) stMax (Memref.isWhole_whole _)
            cc1_scratch5 cc1_scratch6 cc1_scoped0 cc1_scoped1 cc1_scoped2)
          fun _ => iprop(tileIn d L q X f5 (pooledS X St) (pooledM X St)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_tile d L, ownBufs_tile d L]
  unfold tileIn
  simp only [taken, semList, bufList, List.map]
  iintro ⟨#Hlv, -, ⟨HX, H5, Hsum, Hmax⟩, ⟨⟨%fr, Hr⟩, Ha, Hb, ⟨%gs, Hs⟩, ⟨%gm, Hm⟩, Hbufs⟩, ⟨HsA, HsB, H0, H1, H2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave H5' := (pointsTo_split_subset (q := q) (f := f5) (S := Finset.univ) (Finset.subset_univ (startsTile L).view.set)).1 $$ H5
  icases H5' with ⟨H5, H5r⟩
  ihave HA := (rest_of (F := F) d L bufA cc1_scratch5) $$ [Ha HsA]
  · isplitl [Ha]; · iexact Ha
    iexact HsA
  ihave HB := (rest_of (F := F) d L bufB cc1_scratch6) $$ [Hb HsB]
  · isplitl [Hb]; · iexact Hb
    iexact HsB
  iapply (wp_wand_r frame (wpE (defs₀ (F := F)) 𝒱₀ (thr d L) none))
  isplitr [H5r Hbufs Hsems]
  · iapply (tile_walk d L q q X f5 fr St (hSt.chain L fr) (O := O) (W := W) fs fm gs gm)
    isplitl [Hmw]; · iexact Hmw
    isplitl [HO]; · iexact HO
    isplitl [HX]; · iexact HX
    isplitl [H5]; · iexact H5
    isplitl [Hsum]; · iexact Hsum
    isplitl [Hmax]; · iexact Hmax
    isplitl [Hr]; · iexact Hr
    isplitl [HA]; · iexact HA
    isplitl [HB]; · iexact HB
    isplitl [Hs]; · iexact Hs
    isplitl [Hm]; · iexact Hm
    isplitl [H0]; · iexact H0
    isplitl [H1]; · iexact H1
    iexact H2
  iintro %_ ⟨HX, H5, Hsum, Hmax, Hr, HA, HB, Hs, Hm, H0, H1, H2, HO⟩
  ihave HA := (of_rest (F := F) d L bufA cc1_scratch5) $$ HA
  icases HA with ⟨Ha, HsA⟩
  ihave HB := (of_rest (F := F) d L bufB cc1_scratch6) $$ HB
  icases HB with ⟨Hb, HsB⟩
  isplitl [HX H5 H5r Hsum Hmax]
  · isplitl [HX]; · iexact HX
    isplitl [H5 H5r]
    · iapply (pointsTo_split_subset (q := q) (f := f5) (S := Finset.univ) (Finset.subset_univ (startsTile L).view.set)).2
      isplitl [H5]; · iexact H5
      iexact H5r
    isplitl [Hsum]; · iexact Hsum
    iexact Hmax
  isplitl [Hr Ha Hb Hs Hm Hbufs]
  · isplitl [Hr]; · iexact Hr
    isplitl [Ha]; · iexact Ha
    isplitl [Hb]; · iexact Hb
    isplitl [Hs]; · iexact Hs
    isplitl [Hm]; · iexact Hm
    iexact Hbufs
  isplitl [HsA HsB H0 H1 H2 Hsems]
  · isplitl [HsA]; · iexact HsA
    isplitl [HsB]; · iexact HsB
    isplitl [H0]; · iexact H0
    isplitl [H1]; · iexact H1
    isplitl [H2]; · iexact H2
    iexact Hsems
  unfold Owing
  iexact HO

end Cert.Proof.Pool
-- ==== Proof.Pool.Deal.lean ====
/-
  The pooling call's hand-over: the whole arrays dealt out to the 2 × 16 tiles (shares of `x` and of the table of starts,
  disjoint parts of the two results) and put together again; what the call's handshakes carry; the tasks' obligation.
-/
module

public import proofs.«01_k».proof.Proof.Pool.Tile

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

/-! ## Shares -/

/-- `n + 1` parts of a share: half of it, half of what is left, and so on. -/
def peel : (n : ℕ) → PosShare TreeShare → Fin (n + 1) → PosShare TreeShare
  | 0, q, _ => q
  | n + 1, q, i => Fin.cases q.left (peel n q.right) i

theorem pointsTo_peel {ℓ : Loc nD τ sig} (I : Finset (Idx ℓ)) (f : Buf (Elt F) ℓ) :
    ∀ (n : ℕ) (q : PosShare TreeShare), (ℓ ↦[I]{q} f : sProp (MM F)) = bigSep Finset.univ fun i : Fin (n + 1) => ℓ ↦[I]{peel n q i} f
  | 0, q => (bigSep_univ_of_subsingleton (0 : Fin 1) (Φ := fun i : Fin 1 => (ℓ ↦[I]{peel 0 q i} f : sProp (MM F)))).symm
  | n + 1, q => by
    rw [BI.Entails.antisymm (pointsTo_share (PosShare.mem_left_op_right q)).1 (pointsTo_share (PosShare.mem_left_op_right q)).2,
      Fin.univ_succ, Finset.cons_eq_insert, SparseCore.bigSep_insert' (by simp), bigSep_map, pointsTo_peel I f n q.right]
    rfl

/-! ## The tiles' parts of the results -/

def coordsV (c : Fin (grid1.bound 0)) (s : Fin (grid1.bound 1)) : grid1.Coords :=
  fun | 0 => c | 1 => s | ⟨_ + 2, h⟩ => absurd h (Nat.not_lt.2 (Nat.le_add_left _ _))
/-- Tile `i` of SparseCore `c`, -/
abbrev tileAt (c : Fin 2) (i : Fin 16) : grid1.Coords := coordsV c i
/-- its share of what every tile reads, -/
def shareAt (c : Fin 2) (i : Fin 16) : PosShare TreeShare := peel 15 (peel 1 fullShare c) i
/-- and its elements of a result. -/
def partAt (p : Fin 2 × Fin 16) : Finset S256x512.Idx := Finset.univ.map (tileRect (tileAt p.1 p.2)).emb

theorem mem_partAt (p : Fin 2 × Fin 16) (k : S256x512.Idx) : k ∈ partAt p ↔ (k 0).val / 16 = p.2.val ∧ (k 1).val / 256 = p.1.val := by
  unfold partAt
  rw [Finset.mem_map]
  constructor
  · rintro ⟨y, -, rfl⟩
    obtain ⟨h0, h1⟩ := rect_val (tileAt p.1 p.2) y
    rw [h0, h1]
    have hy0 : (y 0).val < 16 := (y 0).isLt
    have hy1 : (y 1).val < 256 := (y 1).isLt
    show (16 * p.2.val + (y 0).val) / 16 = _ ∧ (256 * p.1.val + (y 1).val) / 256 = _
    omega
  · rintro ⟨h0, h1⟩
    refine ⟨ix2 ⟨(k 0).val % 16, Nat.mod_lt _ (by decide)⟩ ⟨(k 1).val % 256, Nat.mod_lt _ (by decide)⟩, Finset.mem_univ _, ?_⟩
    obtain ⟨e0, e1⟩ := rect_val (tileAt p.1 p.2) (ix2 ⟨(k 0).val % 16, Nat.mod_lt _ (by decide)⟩ ⟨(k 1).val % 256, Nat.mod_lt _ (by decide)⟩)
    refine funext fun a => ?_
    match a with
    | 0 => refine Fin.ext (e0.trans ?_); show 16 * p.2.val + (k 0).val % 16 = _; omega
    | 1 => refine Fin.ext (e1.trans ?_); show 256 * p.1.val + (k 1).val % 256 = _; omega

theorem parts_disjoint : ∀ p ∈ (Finset.univ : Finset (Fin 2 × Fin 16)), ∀ p' ∈ (Finset.univ : Finset (Fin 2 × Fin 16)), p ≠ p' → Disjoint (partAt p) (partAt p') := by
  intro p _ p' _ hne
  refine Finset.disjoint_left.mpr fun k h h' => hne ?_
  obtain ⟨h0, h1⟩ := (mem_partAt p k).mp h
  obtain ⟨h0', h1'⟩ := (mem_partAt p' k).mp h'
  exact Prod.ext (Fin.ext (h1.symm.trans h1')) (Fin.ext (h0.symm.trans h0'))

theorem parts_cover : (Finset.univ : Finset (Fin 2 × Fin 16)).biUnion partAt = Finset.univ := by
  refine Finset.eq_univ_of_forall fun k => Finset.mem_biUnion.mpr ?_
  have h0 : (k 0).val < 256 := (k 0).isLt
  have h1 : (k 1).val < 512 := (k 1).isLt
  exact ⟨(⟨(k 1).val / 256, by omega⟩, ⟨(k 0).val / 16, by omega⟩), Finset.mem_univ _, (mem_partAt _ k).mpr ⟨rfl, rfl⟩⟩

/-! ## The hand-over -/

/-- What the call is made on: `x`, the table of starts and what it stands for, and what the results held. -/
structure Job (F : FTy → Type) where
  X : Dev nD → S100000x512.Idx → F .f32
  f5 : Dev nD → S272.Idx → BitVec 32
  St : Dev nD → ℕ → ℕ
  fs : Dev nD → S256x512.Idx → F .f32
  fm : Dev nD → S256x512.Idx → F .f32

abbrev xLoc (d : Dev nD) : Loc nD τ sig := (SparseCore.T d : Thread nD τ).loc main_arg0
abbrev startsLoc (d : Dev nD) : Loc nD τ sig := (SparseCore.T d : Thread nD τ).loc main_v5
abbrev sumLoc (d : Dev nD) : Loc nD τ sig := (SparseCore.T d : Thread nD τ).loc main_v6_0
abbrev maxLoc (d : Dev nD) : Loc nD τ sig := (SparseCore.T d : Thread nD τ).loc main_v6_1

/-- The four arrays of the call, whole. -/
def wholes (d : Dev nD) (X : S100000x512.Idx → F .f32) (f5 : S272.Idx → BitVec 32) (fs fm : S256x512.Idx → F .f32) : sProp (MM F) :=
  iprop((xLoc d ↦{fullShare} X) ∗ (startsLoc d ↦{fullShare} f5) ∗ (sumLoc d ↦{fullShare} fs) ∗ maxLoc d ↦{fullShare} fm)

theorem deal (d : Dev nD) (X : S100000x512.Idx → F .f32) (f5 : S272.Idx → BitVec 32) (fs fm : S256x512.Idx → F .f32) :
    wholes d X f5 fs fm = bigSep Finset.univ fun c : Fin 2 => bigSep Finset.univ fun i : Fin 16 => tileIn d (tileAt c i) (shareAt c i) X f5 fs fm := by
  have hx : (xLoc d ↦{fullShare} X : sProp (MM F)) = bigSep Finset.univ fun c : Fin 2 => bigSep Finset.univ fun i : Fin 16 => xShare d (tileAt c i) (shareAt c i) X := by
    rw [pointsTo_peel (ℓ := xLoc d) Finset.univ X 1 fullShare]
    exact bigSep_congr fun c _ => (pointsTo_peel (ℓ := xLoc d) Finset.univ X 15 _).trans rfl
  have h5 : (startsLoc d ↦{fullShare} f5 : sProp (MM F)) = bigSep Finset.univ fun c : Fin 2 => bigSep Finset.univ fun i : Fin 16 =>
      (startsM.view.loc (thr d (tileAt c i)) ↦[Finset.univ]{shareAt c i} f5) := by
    rw [pointsTo_peel (ℓ := startsLoc d) Finset.univ f5 1 fullShare]
    exact bigSep_congr fun c _ => (pointsTo_peel (ℓ := startsLoc d) Finset.univ f5 15 _).trans rfl
  have hs : (sumLoc d ↦{fullShare} fs : sProp (MM F)) = bigSep Finset.univ fun c : Fin 2 => bigSep Finset.univ fun i : Fin 16 =>
      ((sumTile (tileAt c i)).view.loc (thr d (tileAt c i)) ↦[(sumTile (tileAt c i)).view.set]{fullShare} fs) := by
    have h := pointsTo_biUnion (q := fullShare) (f := fs) (ℓ := sumLoc d) (Val := Elt F) (Ix := HIx 1) (Name := ℕ) (U := UU) (Lvl := ℕ) Finset.univ partAt parts_disjoint
    rw [parts_cover, bigSep_univ_prod] at h
    exact h
  have hm : (maxLoc d ↦{fullShare} fm : sProp (MM F)) = bigSep Finset.univ fun c : Fin 2 => bigSep Finset.univ fun i : Fin 16 =>
      ((maxTile (tileAt c i)).view.loc (thr d (tileAt c i)) ↦[(maxTile (tileAt c i)).view.set]{fullShare} fm) := by
    have h := pointsTo_biUnion (q := fullShare) (f := fm) (ℓ := maxLoc d) (Val := Elt F) (Ix := HIx 1) (Name := ℕ) (U := UU) (Lvl := ℕ) Finset.univ partAt parts_disjoint
    rw [parts_cover, bigSep_univ_prod] at h
    exact h
  unfold wholes tileIn
  rw [hx, h5, hs, hm]
  simp only [← bigSep_sep']

variable [FloatOps F] (j : Job F)

theorem nCore_zero : (K (F := F)).nCore 0 = 2 := rfl
theorem nSub_zero : (K (F := F)).nSub 0 = 16 := rfl

/-- A task's part before the call, and after it. -/
abbrev goAt (d : Dev nD) (c : Fin 2) (i : Fin 16) : sProp (MM F) := tileIn d (tileAt c i) (shareAt c i) (j.X d) (j.f5 d) (j.fs d) (j.fm d)
abbrev doneAt (d : Dev nD) (c : Fin 2) (i : Fin 16) : sProp (MM F) :=
  tileIn d (tileAt c i) (shareAt c i) (j.X d) (j.f5 d) (pooledS (j.X d) (j.St d)) (pooledM (j.X d) (j.St d))

/-- What the call's handshakes carry. -/
def P : (K (F := F)).Pay (nD := nD) (Val := Elt F) (Name := ℕ) (U := UU) where
  st q d c := match q with
    | 0 => bigSep Finset.univ fun i : Fin 16 => goAt j d (Fin.cast nCore_zero c) i
  dn q d c := match q with
    | 0 => bigSep Finset.univ fun i : Fin 16 => doneAt j d (Fin.cast nCore_zero c) i
  go q d c i := match q with
    | 0 => goAt j d (Fin.cast nCore_zero c) (Fin.cast nSub_zero i)
  td q d c i := match q with
    | 0 => doneAt j d (Fin.cast nCore_zero c) (Fin.cast nSub_zero i)
  x := fun _ _ => iprop(emp)

instance tileIn_storable (d : Dev nD) (L : grid1.Coords) (q : PosShare TreeShare) (X : S100000x512.Idx → F .f32) (f5 : S272.Idx → BitVec 32)
    (fs fm : S256x512.Idx → F .f32) : BI.Storable (upEmb : UEmb _ (MM F)) (tileIn d L q X f5 fs fm) := by
  unfold tileIn; infer_instance

instance P_storable : (P j).IsStorable where
  st q d c := match q with
    | 0 => (inferInstance : BI.Storable (upEmb : UEmb _ (MM F)) (bigSep Finset.univ fun i : Fin 16 => goAt j d (Fin.cast nCore_zero c) i))
  dn q d c := match q with
    | 0 => (inferInstance : BI.Storable (upEmb : UEmb _ (MM F)) (bigSep Finset.univ fun i : Fin 16 => doneAt j d (Fin.cast nCore_zero c) i))
  go q d c i := match q with
    | 0 => (inferInstance : BI.Storable (upEmb : UEmb _ (MM F)) (goAt j d (Fin.cast nCore_zero c) (Fin.cast nSub_zero i)))
  td q d c i := match q with
    | 0 => (inferInstance : BI.Storable (upEmb : UEmb _ (MM F)) (doneAt j d (Fin.cast nCore_zero c) (Fin.cast nSub_zero i)))

theorem st_eq (d : Dev nD) : (bigSep Finset.univ fun c : Fin ((K (F := F)).nCore 0) => (P j).st 0 d c) = wholes d (j.X d) (j.f5 d) (j.fs d) (j.fm d) :=
  (deal d (j.X d) (j.f5 d) (j.fs d) (j.fm d)).symm
theorem dn_eq (d : Dev nD) : (bigSep Finset.univ fun c : Fin ((K (F := F)).nCore 0) => (P j).dn 0 d c)
    = wholes d (j.X d) (j.f5 d) (pooledS (j.X d) (j.St d)) (pooledM (j.X d) (j.St d)) :=
  (deal d (j.X d) (j.f5 d) _ _).symm

theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

theorem give_back (A B : sProp (MM F)) : A ⊢ |={Set.univ}=> iprop(A ∗ (B -∗ B)) := by
  iintro H; imodintro
  isplitl [H]; · iexact H
  iintro H; iexact H

theorem st_at (d : Dev nD) (c : Fin ((K (F := F)).nCore 0)) : (P j).st 0 d c = bigSep Finset.univ fun i : Fin 16 => goAt j d (Fin.cast nCore_zero c) i := rfl
theorem dn_at (d : Dev nD) (c : Fin ((K (F := F)).nCore 0)) : (P j).dn 0 d c = bigSep Finset.univ fun i : Fin 16 => doneAt j d (Fin.cast nCore_zero c) i := rfl
theorem go_eq (d : Dev nD) (c : Fin ((K (F := F)).nCore 0)) (i : Fin ((K (F := F)).nSub 0)) :
    (P j).go 0 d c i = goAt j d (Fin.cast nCore_zero c) (Fin.cast nSub_zero i) := rfl
theorem td_eq (d : Dev nD) (c : Fin ((K (F := F)).nCore 0)) (i : Fin ((K (F := F)).nSub 0)) :
    (P j).td 0 d c i = doneAt j d (Fin.cast nCore_zero c) (Fin.cast nSub_zero i) := rfl

theorem vecSplit : (K (F := F)).VecSplit' (P j) 0 := by
  intro d c
  rw [bigSep_congr fun i _ => go_eq j d c i, bigSep_congr fun i _ => td_eq j d c i, st_at, dn_at,
    bigSep_tasks (fun i => goAt j d (Fin.cast nCore_zero c) i), bigSep_tasks (fun i => doneAt j d (Fin.cast nCore_zero c) i)]
  exact give_back _ _

/-! ## The tasks' obligation -/

theorem defs₀_vector (c : Fin τ.nSC) (s : Fin τ.nSub) :
    defs₀ (F := F) (.scVector c s) 1 ()
      = SparseCore.onTile hcore1 hsub1 (fun c s => cc1__pool_body (coordsV c s)
          xM (Memref.isWhole_whole _) startsM (Memref.isWhole_whole _) sumM (Memref.isWhole_whole _) maxM (Memref.isWhole_whole _)
          rowsM (Memref.isWhole_whole _) bufA (Memref.isWhole_whole _) bufB (Memref.isWhole_whole _) stSum (Memref.isWhole_whole _) stMax (Memref.isWhole_whole _)
          cc1_scratch5 cc1_scratch6 cc1_scoped0 cc1_scoped1 cc1_scoped2) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 4000000 in
set_option maxRecDepth 16384 in
theorem tileObl (hF : (K (F := F)).Facts) (hSt : ∀ d, Starts (j.f5 d) (j.St d)) : (K (F := F)).TileObl (D (F := F)) 𝒱 (P j) v₀ 0 := by
  intro d c i O W hO _ _
  simp only [show (P j).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) _ (j.X d) (j.f5 d) hF (hSt d) (j.fs d) (j.fm d) O W hO).trans (wp_mono frame _ _ fun _ => obl_post)

end Cert.Proof.Pool
-- ==== Proof.Pool.Main.lean ====
/-
  The whole program: @main's operations, its two TensorCore regions and the pooling call between them, run from any launch
  memory; what every run leaves in the arguments and in the result.
-/
module

public import proofs.«01_k».proof.Proof.Pool.Region
public import proofs.«01_k».proof.Proof.Pool.Deal

@[expose] public section

noncomputable section

namespace Cert.Proof.Pool

open Cert.KernelIdeal Cert.KernelIdeal.Gen

open Idealize.ShloMosaic Idealize.ShloMosaic.TcCoe
open Idealize.ShloMosaic.SparseCore.Cfg (HIx ctx_levAts)
open Idealize.ShloMosaic.StableHlo (held)
open Idealize.ShloMosaic.Pipeline (Dat ucRefs arrRefs arrRef afterRegion cellsGhost toksInit pin)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

/-! ## @main's operations and the contents between them -/

abbrev opPad : HloOp τ sig (Elt F) := StableHlo.nullary main_c (constantI S_ 32 1073741824#32)
abbrev opPads : HloOp τ sig (Elt F) := StableHlo.unary main_c main_v0 (broadcastInDim S352 ![] bcast_S_S352 : (⟨S_, .i32⟩ : BufTy).Contents (Elt F) → (⟨S352, .i32⟩ : BufTy).Contents (Elt F))
abbrev opIds : HloOp τ sig (Elt F) := StableHlo.binary main_arg1 main_v0 main_v1 ((fun a b => concatenate S100352 0 [⟨S100000, a⟩, ⟨S352, b⟩] concatenates_S100000_S352_S100352_d0) : (⟨S100000, .i32⟩ : BufTy).Contents (Elt F) → (⟨S352, .i32⟩ : BufTy).Contents (Elt F) → (⟨S100352, .i32⟩ : BufTy).Contents (Elt F))
abbrev opTile : HloOp τ sig (Elt F) := StableHlo.reshape main_v1 main_v2 (rfl : (.i32 : EltTy) = .i32) shapeCasts_S100352_S98x1x1024
abbrev opTop : HloOp τ sig (Elt F) := StableHlo.nullary main_c_0 (constantI S_ 32 100000#32)
abbrev opTops : HloOp τ sig (Elt F) := StableHlo.unary main_c_0 main_v4 (broadcastInDim S16 ![] bcast_S_S16 : (⟨S_, .i32⟩ : BufTy).Contents (Elt F) → (⟨S16, .i32⟩ : BufTy).Contents (Elt F))
abbrev opStarts : HloOp τ sig (Elt F) := StableHlo.binary main_v3_0 main_v4 main_v5 ((fun a b => concatenate S272 0 [⟨S256, a⟩, ⟨S16, b⟩] concatenates_S256_S16_S272_d0) : (⟨S256, .i32⟩ : BufTy).Contents (Elt F) → (⟨S16, .i32⟩ : BufTy).Contents (Elt F) → (⟨S272, .i32⟩ : BufTy).Contents (Elt F))

variable (m : (ℓ : Loc nD τ sig) → Buf (Elt F) ℓ) (ρ : Dev nD → PrngReg) (St : Dev nD → ℕ → ℕ)

/-- At launch; when the counting kernel is entered; after it; when the pooling is called; after it; at the end. -/
def V0 (d : Dev nD) : Val F := fun b => m (d, b)
def V1 (d : Dev nD) : Val F := (opTile (F := F)).result ((opIds (F := F)).result ((opPads (F := F)).result ((opPad (F := F)).result (V0 m d))))
def V2 (d : Dev nD) : Val F := afterRegion (dat0 0 (V1 m d) d) (V1 m d)
def V3 (d : Dev nD) : Val F := (opStarts (F := F)).result ((opTops (F := F)).result ((opTop (F := F)).result (V2 m d)))
def job : Job F where
  X d := V3 m d (Proc.devRef .tc main_arg0)
  f5 d := V3 m d (Proc.devRef .tc main_v5)
  St := St
  fs d := V3 m d (Proc.devRef .tc main_v6_0)
  fm d := V3 m d (Proc.devRef .tc main_v6_1)
def V4 (d : Dev nD) : Val F :=
  Function.update (Function.update (V3 m d) (Proc.devRef .tc main_v6_0) (pooledS ((job m St).X d) (St d)))
    (Proc.devRef .tc main_v6_1) (pooledM ((job m St).X d) (St d))
def V5 (d : Dev nD) : Val F := afterRegion (dat2 1 (V4 m St d) d) (V4 m St d)

abbrev SU : Finset (DevRef τ sig) := ucRefs τ sig

theorem mem_SU (b : Ref sig .tc) (hb : b.isScoped = false) : (Proc.devRef .tc b : DevRef τ sig) ∈ SU :=
  Finset.mem_filter.mpr ⟨StableHlo.devRef_mem_tcRefs b, fun h' => Bool.false_ne_true (hb.symm.trans h')⟩

/-! ## The steps -/

/-- An operation on arrays of @main. -/
theorem op_step (d : Dev nD) {op : HloOp τ sig (Elt F)} (hop : op.bufs ⊆ StableHlo.tcRefs τ sig) (V : Val F) (Q : PUnit → sProp (MM F))
    (hf : op.fresh = ∅ := by first | rfl | decide) :
    iprop((boundary (SparseCore.T d : Thread nD τ) ∗ held (SparseCore.T d : Thread nD τ) SU V)
        ∗ (iprop(boundary (SparseCore.T d : Thread nD τ) ∗ held (SparseCore.T d : Thread nD τ) SU (op.result V)) -∗ Q ⟨⟩))
      ⊢ wp frame (wpE ((K (F := F)).defs (D (F := F))) 𝒱 (SparseCore.T d) none) Set.univ (hlo rfl op fun _ => .ret ⟨⟩) Q := by
  iintro ⟨⟨Hb, Hheld⟩, HQ⟩
  iapply (StableHlo.wp_hlo_within 𝒱 (SparseCore.T d) none Set.univ (op := op) (S := SU) (Pipeline.sub_ucRefs op hop) (V := V) hf) $$ [Hb Hheld]
  · isplitl [Hb] <;> iassumption
  iintro H
  rw [wp_ret]; imodintro
  iapply HQ; iexact H

set_option backward.isDefEq.respectTransparency.types false in
theorem lift_region (p : Fin 2) :
    (Prog.lift (.customCall (SparseCore.inner (Pipeline.entry p)) ()) : Prog (TpuEff nD τ sig (Elt F) (SparseCore.Sig (ΛP (F := F)) 1) .tc) PUnit)
      = SparseCore.liftProg (.op (.customCall (Pipeline.entry p) ()) .ret) := rfl

theorem ret_wand (d : Dev nD) (A : sProp (MM F)) (Q : PUnit → sProp (MM F)) :
    iprop(A -∗ Q ⟨⟩) ⊢ iprop(A -∗ wp frame (wpE (D (F := F)) 𝒱 (d.tc : Thread nD τ) none) Set.univ (.ret ⟨⟩) Q) := by
  iintro HQ H
  rw [wp_ret]; imodintro
  iapply HQ; iexact H

/-- A region of @main. -/
theorem region_step (κ : GSem nD τ sig → ℕ) (d : Dev nD) (pdats : (p : Fin 2) → (c : Dev nD) → Dat τ (Elt F) (HIx 1) ℕ UU ℕ (pin (pcfgs (F := F)) adm p) c)
    (p : Fin 2) (R : Pipeline.RegionSeg (pcfgs (F := F)) adm pdats none (defs₀ (F := F)) 𝒱₀ (K (F := F)).L (K (F := F)).lev p)
    (Q : PUnit → sProp (MM F)) :
    iprop((iprop(boundary (d.tc : Thread nD τ) ∗ R.post d) -∗ Q ⟨⟩)
        ∗ boundary (d.tc : Thread nD τ) ∗ R.pre d ∗ levAts (K (F := F)).L (K (F := F)).lev
        ∗ cellsGhost (pin (pcfgs (F := F)) adm) EP p d ∗ toksInit (pin (pcfgs (F := F)) adm) EP p d)
      ⊢ wp frame (wpE ((K (F := F)).defs (D (F := F))) 𝒱 (SparseCore.T d) none) Set.univ
          (Prog.lift (.customCall (SparseCore.inner (Pipeline.entry p)) ())) Q := by
  rw [lift_region]
  refine BI.Entails.trans ?_ ((K (F := F)).wp_liftProg (D (F := F)) 𝒱 (SparseCore.T d) Set.univ none _ _)
  refine BI.Entails.trans ?_ (Pipeline.RegionSeg.wp pcfgs adm pdats none cellOf_inj EP defs₀ 𝒱₀ _ _ R d none (fun _ h => nomatch h) .ret Q)
  exact sep_mono (ret_wand d _ Q) .rfl

/-- The counting region, and the linear one, over @main's arrays. -/
def pds : (p : Fin 2) → (c : Dev nD) → Dat τ (Elt F) (HIx 1) ℕ UU ℕ (pin (pcfgs (F := F)) adm p) c := pdats (V1 m) (V4 m St)

theorem unscoped0 : ∀ w, (arrRef spec0 w).isScoped = false := by decide
theorem unscoped2 : ∀ w, (arrRef spec2 w).isScoped = false := by decide
theorem share0 (W : Val F) (c : Dev nD) (w : Fin cfg0.W) : (dat0 0 W c).share w = fullShare := by unfold Dat.share; split <;> rfl
theorem share2 (W : Val F) (c : Dev nD) (w : Fin cfg2.W) : (dat2 1 W c).share w = fullShare := by unfold Dat.share; split <;> rfl

section Regions

variable (W0 W2 : Dev nD → Val F)

theorem pdats0 (c : Dev nD) : pdats W0 W2 0 c = dat0 0 (W0 c) c := rfl
theorem pdats2 (c : Dev nD) : pdats W0 W2 1 c = dat2 1 (W2 c) c := rfl
theorem rest2_at (W : Val F) (c : Dev nD) (t) : (dat2 1 W c).Φ t = rest2 (F := F) c := rfl
theorem enter2 (W : Val F) (c : Dev nD) (w : Fin cfg2.W) : (dat2 1 W c).arrAt w 0 = W (Proc.devRef .tc (arrRef spec2 w)) := rfl

def regionC : Pipeline.RegionSeg (pcfgs (F := F)) adm (pdats W0 W2) none (defs₀ (F := F)) 𝒱₀ (K (F := F)).L (K (F := F)).lev 0 :=
  regionSeg (pdats W0 W2) 0 0 launch0.toP rfl SU (Pipeline.arrRefs_sub_ucRefs _ unscoped0) (fun c => by rw [pdats0]; exact body0 0 (W0 c) c)
    (fun c t => by rw [pdats0]; rfl) (fun c t => by rw [pdats0]; rfl) (fun c t => by rw [pdats0]; rfl) (fun c => by rw [pdats0]; exact share0 _ c) W0
    (fun c w => by rw [pdats0]; rfl)
def regionL : Pipeline.RegionSeg (pcfgs (F := F)) adm (pdats W0 W2) none (defs₀ (F := F)) 𝒱₀ (K (F := F)).L (K (F := F)).lev 1 :=
  regionSeg (pdats W0 W2) 1 1 launch2.toP rfl SU (Pipeline.arrRefs_sub_ucRefs _ unscoped2) (fun c => by rw [pdats2]; exact body2 1 (W2 c) c)
    (fun c t => by rw [pdats2]; rfl) (fun c t => by rw [pdats2]; rfl) (fun c t => by rw [pdats2, rest2_at]; unfold rest2; rfl) (fun c => by rw [pdats2]; exact share2 _ c) W2
    (fun c w => by rw [pdats2]; exact enter2 _ c w)

end Regions

def region0 : Pipeline.RegionSeg (pcfgs (F := F)) adm (pds m St) none (defs₀ (F := F)) 𝒱₀ (K (F := F)).L (K (F := F)).lev 0 := regionC (V1 m) (V4 m St)
def region2 : Pipeline.RegionSeg (pcfgs (F := F)) adm (pds m St) none (defs₀ (F := F)) 𝒱₀ (K (F := F)).L (K (F := F)).lev 1 := regionL (V1 m) (V4 m St)

theorem region0_pre (d : Dev nD) : (region0 m St).pre d = around 0 SU (V1 m d) d := rfl
theorem region0_post (d : Dev nD) : (region0 m St).post d = around 0 SU (V2 m d) d := rfl
theorem region2_pre (d : Dev nD) : (region2 m St).pre d = around 1 SU (V4 m St d) d := rfl
theorem region2_post (d : Dev nD) : (region2 m St).post d = around 1 SU (V5 m St d) d := rfl

/-- The four arrays of the pooling call. -/
abbrev S4 : Finset (DevRef τ sig) := {Proc.devRef .tc main_arg0, Proc.devRef .tc main_v5, Proc.devRef .tc main_v6_0, Proc.devRef .tc main_v6_1}
theorem S4_sub : S4 ⊆ SU := by
  intro b hb
  simp only [S4, Finset.mem_insert, Finset.mem_singleton] at hb
  rcases hb with rfl | rfl | rfl | rfl <;> exact mem_SU _ rfl

theorem held_S4 (d : Dev nD) (W : Val F) :
    (held (SparseCore.T d : Thread nD τ) S4 W : sProp (MM F))
      = wholes d (W (Proc.devRef .tc main_arg0)) (W (Proc.devRef .tc main_v5)) (W (Proc.devRef .tc main_v6_0)) (W (Proc.devRef .tc main_v6_1)) := by
  unfold held S4 wholes
  rw [SparseCore.bigSep_insert' (by decide), SparseCore.bigSep_insert' (by decide), SparseCore.bigSep_insert' (by decide), bigSep_singleton]

/-- @main's part of the pipelines' ghost state. -/
def G (d : Dev nD) : sProp (MM F) :=
  iprop((bigSep Finset.univ fun p : Fin 2 => cellsGhost (pin (pcfgs (F := F)) adm) EP p d) ∗ bigSep Finset.univ fun p : Fin 2 => toksInit (pin (pcfgs (F := F)) adm) EP p d)

theorem G_eq (d : Dev nD) : (G d : sProp (MM F))
    = iprop((cellsGhost (pin (pcfgs (F := F)) adm) EP 0 d ∗ cellsGhost (pin (pcfgs (F := F)) adm) EP 1 d)
        ∗ (toksInit (pin (pcfgs (F := F)) adm) EP 0 d ∗ toksInit (pin (pcfgs (F := F)) adm) EP 1 d)) := by
  unfold G
  rw [show (Finset.univ : Finset (Fin 2)) = {0, 1} by decide, SparseCore.bigSep_insert' (by decide), SparseCore.bigSep_insert' (by decide), bigSep_singleton, bigSep_singleton]

/-- What is held when the call is made, the call's arrays apart. -/
theorem held_V3 (d : Dev nD) :
    (held (SparseCore.T d : Thread nD τ) SU ((opStarts (F := F)).result ((opTops (F := F)).result ((opTop (F := F)).result (V2 m d)))) : sProp (MM F))
      = iprop(wholes d (V3 m d (Proc.devRef .tc main_arg0)) (V3 m d (Proc.devRef .tc main_v5)) (V3 m d (Proc.devRef .tc main_v6_0)) (V3 m d (Proc.devRef .tc main_v6_1))
          ∗ held (SparseCore.T d : Thread nD τ) (SU \ S4) (V3 m d)) := by
  rw [← held_S4, ← StableHlo.held_sub_split (SparseCore.T d : Thread nD τ) S4_sub (V3 m d)]; rfl

theorem V4_x (d : Dev nD) : V4 m St d (Proc.devRef .tc main_arg0) = V3 m d (Proc.devRef .tc main_arg0) := by
  unfold V4; rw [Function.update_of_ne (by decide), Function.update_of_ne (by decide)]
theorem V4_5 (d : Dev nD) : V4 m St d (Proc.devRef .tc main_v5) = V3 m d (Proc.devRef .tc main_v5) := by
  unfold V4; rw [Function.update_of_ne (by decide), Function.update_of_ne (by decide)]
theorem V4_s (d : Dev nD) : V4 m St d (Proc.devRef .tc main_v6_0) = pooledS ((job m St).X d) (St d) := by
  unfold V4; rw [Function.update_of_ne (by decide), Function.update_self]
theorem V4_m (d : Dev nD) : V4 m St d (Proc.devRef .tc main_v6_1) = pooledM ((job m St).X d) (St d) := by
  unfold V4; rw [Function.update_self]
theorem V4_off (d : Dev nD) : ∀ b ∈ SU \ S4, V4 m St d b = V3 m d b := by
  intro b hb
  have hb := (Finset.mem_sdiff.mp hb).2
  simp only [S4, Finset.mem_insert, Finset.mem_singleton, not_or] at hb
  unfold V4
  rw [Function.update_of_ne hb.2.2.2, Function.update_of_ne hb.2.2.1]

set_option maxHeartbeats 1000000 in
/-- @main on one device: from the launch's arrays to the last region's. -/
theorem hmain (κ : GSem nD τ sig → ℕ) (d : Dev nD) :
    iprop((K (F := F)).ctx EH (P (job m St)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ held (SparseCore.T d : Thread nD τ) SU (V5 m St d) ∗ (K (F := F)).tcEnd d) := by
  unfold SparseCore.Cfg.tcRes SparseCore.Cfg.tcEnd
  rw [show (unscopedBufs d (fun b => m ((SparseCore.T d).loc b)) : sProp (MM F)) = held (SparseCore.T d : Thread nD τ) SU (V0 m d) from
    Pipeline.unscopedBufs_held d (V0 m d), G_eq]
  simp only [main, wp_bind, wp_pure]
  iintro ⟨#Hctx, Hst, ⟨Hb, Hheld, Hts, -⟩, ⟨HC0, HC1⟩, HT0, HT1⟩
  ihave #Hlev := (ctx_levAts κ) $$ Hctx
  iapply (op_step d (op := opPad) (StableHlo.nullary_bufs_sub ..) (V0 m d))
  isplitl [Hb Hheld]; · isplitl [Hb] <;> iassumption
  iintro H
  iapply (op_step d (op := opPads) (StableHlo.unary_bufs_sub ..) ((opPad (F := F)).result (V0 m d)))
  isplitl [H]; · iexact H
  iintro H
  iapply (op_step d (op := opIds) (StableHlo.binary_bufs_sub ..) ((opPads (F := F)).result ((opPad (F := F)).result (V0 m d))))
  isplitl [H]; · iexact H
  iintro H
  iapply (op_step d (op := opTile) (StableHlo.reshape_bufs_sub ..) ((opIds (F := F)).result ((opPads (F := F)).result ((opPad (F := F)).result (V0 m d)))))
  isplitl [H]; · iexact H
  iintro ⟨Hb, Hheld⟩
  -- the counting region, what the thread owes taken out of its handshake state
  unfold SparseCore.Cfg.tcSt
  icases Hst with ⟨HO, Hst⟩
  iapply (region_step κ d (pds m St) 0 (region0 m St))
  isplitr [Hb Hheld HO HC0 HT0]
  rotate_left
  · isplitl [Hb]; · iexact Hb
    isplitl [Hheld HO]
    · rw [region0_pre]; unfold around
      isplitl [Hheld]; · iexact Hheld
      iexact HO
    isplitr; · iexact Hlev
    isplitl [HC0]; · iexact HC0
    iexact HT0
  rw [region0_post]
  unfold around
  iintro ⟨Hb, Hheld, HO⟩
  iapply (op_step d (op := opTop) (StableHlo.nullary_bufs_sub ..) (V2 m d))
  isplitl [Hb Hheld]; · isplitl [Hb] <;> iassumption
  iintro H
  iapply (op_step d (op := opTops) (StableHlo.unary_bufs_sub ..) ((opTop (F := F)).result (V2 m d)))
  isplitl [H]; · iexact H
  iintro H
  iapply (op_step d (op := opStarts) (StableHlo.binary_bufs_sub ..) ((opTops (F := F)).result ((opTop (F := F)).result (V2 m d))))
  isplitl [H]; · iexact H
  iintro ⟨Hb, Hheld⟩
  -- the pooling call on the four arrays
  ihave Hheld := (Entails.of_eq (held_V3 m d)) $$ Hheld
  icases Hheld with ⟨Hfour, Hoff⟩
  iapply ((K (F := F)).wp_run (D (F := F)) 𝒱 (EH := EH) (P := P (job m St)) κ d 0) $$ [HO Hst Hfour Hoff Hb Hts HC1 HT1]
  isplitr; · iexact Hctx
  isplitl [HO Hst]
  · unfold SparseCore.Cfg.tcSt
    isplitl [HO]; · iexact HO
    iexact Hst
  isplitl [Hfour]
  · rw [st_eq]; iexact Hfour
  iintro ⟨Hst, Hdn⟩
  ihave Hfour := (Entails.of_eq (dn_eq (job m St) d)) $$ Hdn
  -- the linear region
  unfold SparseCore.Cfg.tcSt
  icases Hst with ⟨HO, Hst⟩
  iapply (region_step κ d (pds m St) 1 (region2 m St))
  isplitr [Hb Hfour Hoff HO HC1 HT1]
  rotate_left
  · isplitl [Hb]; · iexact Hb
    isplitl [Hfour Hoff HO]
    · rw [region2_pre]; unfold around
      isplitl [Hfour Hoff]
      · rw [StableHlo.held_sub_split (d.tc : Thread nD τ) S4_sub (V4 m St d),
          show held (d.tc : Thread nD τ) S4 (V4 m St d) = held (SparseCore.T d : Thread nD τ) S4 (V4 m St d) from rfl, held_S4, V4_x, V4_5, V4_s, V4_m,
          StableHlo.held_congr (d.tc : Thread nD τ) (V4_off m St d)]
        isplitl [Hfour]; · iexact Hfour
        iexact Hoff
      iexact HO
    isplitr; · iexact Hlev
    isplitl [HC1]; · iexact HC1
    iexact HT1
  rw [region2_post]
  unfold around
  iintro ⟨Hb, Hheld, HO⟩
  imodintro
  isplitl [HO Hst]
  · isplitl [HO]; · iexact HO
    iexact Hst
  isplitl [Hheld]; · iexact Hheld
  isplitl [Hb]; · iexact Hb
  iexact Hts

/-! ## What a run leaves -/

/-- What is kept of the arrays at the end: their contents. -/
def fq (d : Dev nD) (s' : Phys nD τ sig (Elt F)) : Prop := ∀ b : Ref sig .tc, b.isScoped = false → s'.mem.mem ((d.tc : Thread nD τ).loc b) = V5 m St d (Proc.devRef .tc b)

theorem hfin_at (d : Dev nD) (s' : Phys nD τ sig (Elt F)) (b : Ref sig .tc) (hb : b.isScoped = false) :
    iprop(held (SparseCore.T d : Thread nD τ) SU (V5 m St d) ∗ SI s')
      ⊢ (⌜s'.mem.mem ((d.tc : Thread nD τ).loc b) = V5 m St d (Proc.devRef .tc b)⌝ : sProp (MM F)) := by
  rw [StableHlo.held_sub_split (SparseCore.T d : Thread nD τ) (T := {Proc.devRef .tc b}) (Finset.singleton_subset_iff.mpr (mem_SU b hb)) (V5 m St d)]
  unfold held
  rw [bigSep_singleton]
  iintro ⟨⟨Hb, -⟩, HSI⟩
  ihave H := (SI_pointsTo_agree (st := s') (ℓ := (d.tc : Thread nD τ).loc b) (I := Finset.univ) (q := fullShare) (f := V5 m St d (Proc.devRef .tc b))) $$ [HSI Hb]
  · isplitl [HSI] <;> iassumption
  icases H with %h
  ipureintro; exact funext fun i => h i (Finset.mem_univ i)

theorem hfin (d : Dev nD) (s' : Phys nD τ sig (Elt F)) :
    iprop(held (SparseCore.T d : Thread nD τ) SU (V5 m St d) ∗ SI s') ⊢ (⌜fq m St d s'⌝ : sProp (MM F)) := by
  unfold fq
  exact (forall_intro fun b => (forall_intro fun hb => hfin_at m St d s' b hb).trans pure_forall.2).trans pure_forall.2

/-! ## The launch -/

def u₀ : UU :=
  (initOf (K (F := F)).hsCells (K (F := F)).hsToks,
    (initOf (Pipeline.cells (pin (pcfgs (F := F)) adm) cellOf_inj) (Pipeline.launchToks (pin (pcfgs (F := F)) adm) cellOf_inj), 1))

/-- Of a pair of the pipelines' element and nothing, the pipelines' element. -/
theorem own_pair_left (a : UP) : (BI.own ((embR : Emb (UP × Counters) (MM F)) (a, 1)) : sProp (MM F)) ⊢ BI.own (EP a) :=
  .rfl

theorem bigSep_emp {I : Type} (s : Finset I) : (bigSep s fun _ => iprop(emp)) = (iprop(emp) : sProp (MM F)) := bigSep_emp_const s

theorem hu₀ (j : Job F) : (ownU (u₀ (F := F)) : sProp (MM F))
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P j).x q thr) := by
  unfold u₀
  iintro Hu
  ihave H := (ownU_pair (initOf (K (F := F)).hsCells (K (F := F)).hsToks) _) $$ Hu
  icases H with ⟨HH, HP⟩
  ihave HP := (own_pair_left (initOf (Pipeline.cells (pin (pcfgs (F := F)) adm) cellOf_inj) (Pipeline.launchToks (pin (pcfgs (F := F)) adm) cellOf_inj))) $$ HP
  ihave HP := (Pipeline.fund_ghost (pin (pcfgs (F := F)) adm) EP cellOf_inj) $$ HP
  imod HP with ⟨HC, HT⟩
  imodintro
  isplitl [HH]; · iexact HH
  isplitl [HC HT]
  · unfold G
    rw [bigSep_sep']
    isplitl [HC]; · iexact HC
    iexact HT
  rw [show (bigSep Finset.univ fun thr : Thread nD τ => bigSep Finset.univ fun q : Fin 1 => (P (F := F) j).x q thr) = bigSep Finset.univ fun _ => iprop(emp) from
    bigSep_congr fun _ _ => bigSep_univ_of_subsingleton (0 : Fin 1), bigSep_emp]
  iempintro

/-! ## The run -/

theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq _ := rfl

/-- Every run ends with the arrays at `V5` and the semaphores at zero, if the table of starts the pooling is called on is one. -/
theorem run [∀ e, Nonempty (Elt F e)] (hSt : ∀ d, Starts ((job m St).f5 d) (St d)) :
    θ_run (Cert.KernelIdeal.defs (F := F)) (Cert.KernelIdeal.threads (F := F)) ⟨m, fun _ => 0, ρ⟩
      fun r => (∀ (d : Dev nD) (b : Ref sig .tc), b.isScoped = false → r.2.mem ((d.tc : Thread nD τ).loc b) = V5 m St d (Proc.devRef .tc b))
        ∧ r.2.sem = fun _ => 0 :=
  SparseCore.Cfg.θ_run_sc_quiescent (K := K (F := F)) (D := D (F := F)) (𝒱 := 𝒱) (EH := EH) (P := P (job m St)) (A := ∅) facts v₀
    (fun q hq => match q with | 0 => nomatch hq)
    (fun q _ => match q with | 0 => tileObl (job m St) facts hSt)
    (fun q _ => match q with | 0 => SparseCore.Cfg.VecSplit.of_plain (vecSplit (job m St)))
    m ρ main G (fun d => held (SparseCore.T d : Thread nD τ) SU (V5 m St d)) (u₀ (F := F)) (sep_elim_left.trans (hu₀ (job m St))) (hmain m ρ St) (fq m St) (hfin m St)
    _ (fun _ h hz => ⟨h, hz⟩)

end Cert.Proof.Pool

end
-- ==== Proof.Pool.Starts.lean ====
/-
  The two running counts over all the padded ids: at a segment number `k` the one is the number of rows whose id is below `k`, the
  other the number of rows whose id is `k`; a padding id is neither. So the table of starts is one, whatever the ids are.
-/
module

public import proofs.«01_k».proof.Proof.Pool.Main
public import Idealize.ShloMosaic.Lib.WordSum
public import Idealize.ShloMosaic.Lib.Pointwise

@[expose] public section

noncomputable section

namespace Cert.Proof.Pool

open Cert.KernelIdeal Cert.KernelIdeal.Gen

open Idealize.ShloMosaic
open Idealize.ShloMosaic.Affine (IsInt)
open Idealize.ShloMosaic.Pipeline (arrRef afterRegion)

variable {F : FTy → Type} [FloatOps F]

/-! ## The counts as sums of words -/

/-- One where a word stands in relation `p` to segment number `k`, zero where it does not. -/
def hit (p : CmpIPredicate) (k : ℕ) (w : BitVec 32) : BitVec 32 := (IntOp.cmpi p (BitVec.ofNat 32 k) w).setWidth 32

/-- The padded ids one after the other. -/
def flat (v : S100352.Idx → BitVec 32) (n : ℕ) : BitVec 32 := v (ValueIdx.ix1 (Fin.ofNat 100352 n))

theorem fold_words {n : ℕ} (f : Fin n → BitVec 32) : Finset.univ.fold IntOp.addi 0#32 f = ∑ c, f c := rfl

theorem rowCount_apply (p : CmpIPredicate) (X : S14x1x1024.Idx → BitVec 32) (r : ℕ) (hr : r < 14) (j : S256.Idx) :
    rowCount p (idRow X r (row_fits hr)) j = ∑ c : Fin 1024, hit p (j 0).val (X (ValueIdx.ix3 ⟨r, hr⟩ 0 c)) := by
  unfold rowCount idRow
  simp only [pointwise]
  refine (fold_words _).trans (Finset.sum_congr rfl fun c _ => ?_)
  refine congrArg₂ (fun a b => (IntOp.cmpi p (BitVec.ofNat 32 a) (X b)).setWidth 32) (by simp) (funext fun a => Fin.ext ?_)
  match a with
  | 0 => exact Nat.add_zero r
  | 1 => exact Nat.add_zero 0
  | 2 =>
    show 0 + 1 * c.val = c.val
    omega

theorem tiles_apply (v : S100352.Idx → BitVec 32) (a : Fin 98) (c : Fin 1024) :
    shapeCast S98x1x1024 v shapeCasts_S100352_S98x1x1024 (ValueIdx.ix3 a 0 c) = flat v (a.val * 1024 + c.val) := by
  simp only [pointwise]
  refine congrArg v (funext fun b => Fin.ext ?_)
  match b with
  | 0 => exact (Nat.mod_eq_of_lt (show a.val * 1024 + c.val < 100352 by have := a.isLt; have := c.isLt; omega)).symm

/-- A count over a block of fourteen rows, from what it is over a row. -/
theorem blockCount_apply (p : CmpIPredicate) (X : S14x1x1024.Idx → BitVec 32) (w : ℕ → BitVec 32)
    (hX : ∀ (r : Fin 14) (c : Fin 1024), X (ValueIdx.ix3 r 0 c) = w (r.val * 1024 + c.val)) (j : S256.Idx) (n : ℕ) (hn : n ≤ 14) :
    blockCount p X n hn j = ∑ i ∈ Finset.range (n * 1024), hit p (j 0).val (w i) := by
  induction n with
  | zero => rfl
  | succ n ih =>
    rw [Nat.succ_mul, Finset.sum_range_add, ← ih (Nat.le_of_succ_le hn), Finset.sum_range]
    show blockCount p X n _ j + rowCount p (idRow X n (row_fits hn)) j = _
    rw [rowCount_apply p X n hn]
    exact congrArg (_ + ·) (Finset.sum_congr rfl fun c _ => congrArg (hit p (j 0).val) (hX ⟨n, hn⟩ c))

theorem index0 (t : Fin cfg0.N) : win0_0.index t 0 = t.val ∧ win0_0.index t 1 = 0 ∧ win0_0.index t 2 = 0 := by
  rcases fin_N0 t with h | h | h | h | h | h | h <;> subst h <;> decide

theorem idBlock_apply (ids : S98x1x1024.Idx → BitVec 32) (t : Fin cfg0.N) (r : Fin 14) (c : Fin 1024) (a : Fin 98) (ha : a.val = t.val * 14 + r.val) :
    idBlock (F := F) ids t (ValueIdx.ix3 r 0 c) = ids (ValueIdx.ix3 a 0 c) := by
  obtain ⟨h0, h1, h2⟩ := index0 t
  refine congrArg ids (funext fun b => Fin.ext ?_)
  match b with
  | 0 => blk_simp; rw [h0]; exact ha.symm
  | 1 => blk_simp; exact h1
  | 2 => blk_simp; rw [h2, Nat.zero_mul, Nat.zero_add]; rfl

theorem running_apply (p : CmpIPredicate) (v : S100352.Idx → BitVec 32) (j : S256.Idx) (n : ℕ) (hn : n ≤ 7) :
    running (F := F) p (shapeCast S98x1x1024 v shapeCasts_S100352_S98x1x1024) n j
      = ∑ i ∈ Finset.range (n * 14336), hit p (j 0).val (flat v i) := by
  induction n with
  | zero => rfl
  | succ n ih =>
    rw [Nat.succ_mul, Finset.sum_range_add, ← ih (Nat.le_of_succ_le hn)]
    have hp : (pt0 n).val = n := Nat.mod_eq_of_lt hn
    have hb : blockCount p (idBlock (F := F) (shapeCast S98x1x1024 v shapeCasts_S100352_S98x1x1024) (pt0 n)) 14 le_rfl j
        = ∑ i ∈ Finset.range (14 * 1024), hit p (j 0).val (flat v (n * 14336 + i)) :=
      blockCount_apply p _ (fun i => flat v (n * 14336 + i)) (fun r c => by
        have hr := r.isLt
        rw [idBlock_apply (F := F) _ _ r c ⟨n * 14 + r.val, by omega⟩ (by rw [hp]), tiles_apply]
        exact congrArg (flat v) (show (n * 14 + r.val) * 1024 + c.val = n * 14336 + (r.val * 1024 + c.val) by omega)) j 14 le_rfl
    have h0 : runBase (grid0.coords (pt0 n)) (running (F := F) p (shapeCast S98x1x1024 v shapeCasts_S100352_S98x1x1024) n)
        = running (F := F) p (shapeCast S98x1x1024 v shapeCasts_S100352_S98x1x1024) n := by
      unfold runBase
      rw [coords0, hp]
      split
      · next h => subst h; rfl
      · rfl
    show (runBase (grid0.coords (pt0 n)) (running (F := F) p (shapeCast S98x1x1024 v shapeCasts_S100352_S98x1x1024) n)) j
        + blockCount p (idBlock (F := F) (shapeCast S98x1x1024 v shapeCasts_S100352_S98x1x1024) (pt0 n)) 14 le_rfl j = _
    rw [h0, hb]

/-! ## The padded ids -/

/-- The ids, then 352 padding ids of 2³⁰. -/
def padded (u : S100000.Idx → BitVec 32) : S100352.Idx → BitVec 32 :=
  concatenate S100352 0 [⟨S100000, u⟩, ⟨S352, broadcastInDim S352 ![] bcast_S_S352 (constantI S_ 32 1073741824#32)⟩] concatenates_S100000_S352_S100352_d0

/-- The id of row `n`. -/
def idAt (u : S100000.Idx → BitVec 32) (n : ℕ) : BitVec 32 := u (ValueIdx.ix1 (Fin.ofNat 100000 n))

theorem flat_id (u : S100000.Idx → BitVec 32) {n : ℕ} (h : n < 100000) : flat (padded u) n = idAt u n :=
  concatenate_pair_apply_left (t := S100352) (s₁ := S100000) (s₂ := S352) 0 _ _ concatenates_S100000_S352_S100352_d0 _ rfl _ fun b => by
    match b with
    | 0 => exact (Nat.mod_eq_of_lt h).trans (Nat.mod_eq_of_lt (by omega)).symm

theorem flat_pad (u : S100000.Idx → BitVec 32) {n : ℕ} (h : 100000 ≤ n) (h' : n < 100352) : flat (padded u) n = 1073741824#32 :=
  concatenate_pair_apply_right (t := S100352) (s₁ := S100000) (s₂ := S352) 0 _ _ concatenates_S100000_S352_S100352_d0 _ rfl rfl (ValueIdx.ix1 ⟨n - 100000, by omega⟩) (fun b hb => absurd (Subsingleton.elim (α := Fin 1) _ _) hb) (by
    show n - 100000 + 100000 = n % 100352
    omega)

/-- How many rows have an id below `k`, -/
def nBelow (u : S100000.Idx → BitVec 32) (k : ℕ) : ℕ := ((Finset.range 100000).filter fun n => (idAt u n).toInt < k).card
/-- and how many have the id `k`. -/
def nOf (u : S100000.Idx → BitVec 32) (k : ℕ) : ℕ := ((Finset.range 100000).filter fun n => (idAt u n).toInt = k).card

theorem hit_sum {p : CmpIPredicate} {k : ℕ} (u : S100000.Idx → BitVec 32) (φ : BitVec 32 → Prop) [DecidablePred φ]
    (hφ : ∀ w, hit p k w = if φ w then 1#32 else 0#32) (hpad : ¬ φ 1073741824#32) :
    (∑ i ∈ Finset.range 100352, hit p k (flat (padded u) i)) = BitVec.ofNat 32 ((Finset.range 100000).filter fun n => φ (idAt u n)).card := by
  rw [show 100352 = 100000 + 352 from rfl, Finset.sum_range_add]
  rw [Finset.sum_eq_zero (s := Finset.range 352) fun i hi => by
    have := Finset.mem_range.mp hi
    rw [flat_pad u (by omega) (by omega), hφ, if_neg hpad]; rfl]
  rw [add_zero, Finset.sum_congr rfl fun i hi => (congrArg (hit p k) (flat_id u (Finset.mem_range.mp hi))).trans (hφ _)]
  rw [Finset.card_filter]
  generalize Finset.range 100000 = S
  induction S using Finset.cons_induction with
  | empty => rfl
  | cons a S ha ih =>
    rw [Finset.sum_cons, Finset.sum_cons, ih, BitVec.ofNat_add]
    split <;> rfl

theorem toInt_seg {k : ℕ} (hk : k ≤ 256) : (BitVec.ofNat 32 k).toInt = k := by
  exact Affine.unique (Affine.word _) (lit k (by omega))

theorem hit_below {k : ℕ} (hk : k ≤ 256) (w : BitVec 32) : hit .sgt k w = if w.toInt < (k : ℤ) then 1#32 else 0#32 := by
  show (BitVec.ofBool (w.slt (BitVec.ofNat 32 k))).setWidth 32 = _
  rw [BitVec.slt, toInt_seg hk]
  by_cases h : w.toInt < (k : ℤ)
  · rw [if_pos h, decide_eq_true h]; rfl
  · rw [if_neg h, decide_eq_false h]; rfl

theorem hit_of {k : ℕ} (hk : k ≤ 256) (w : BitVec 32) : hit .eq k w = if w.toInt = (k : ℤ) then 1#32 else 0#32 := by
  show (BitVec.ofBool (BitVec.ofNat 32 k == w)).setWidth 32 = _
  by_cases h : w.toInt = (k : ℤ)
  · rw [if_pos h, show (BitVec.ofNat 32 k == w) = true from beq_iff_eq.mpr (BitVec.eq_of_toInt_eq ((toInt_seg hk).trans h.symm))]; rfl
  · rw [if_neg h, show (BitVec.ofNat 32 k == w) = false from beq_eq_false_iff_ne.mpr fun e => h (e ▸ toInt_seg hk)]; rfl

theorem pad_toInt : (1073741824#32 : BitVec 32).toInt = 1073741824 := by decide

theorem below_apply (u : S100000.Idx → BitVec 32) (j : S256.Idx) :
    running (F := F) .sgt (shapeCast S98x1x1024 (padded u) shapeCasts_S100352_S98x1x1024) 7 j = BitVec.ofNat 32 (nBelow u (j 0).val) :=
  have hj : (j 0).val < 256 := (j 0).isLt
  (running_apply .sgt (padded u) j 7 le_rfl).trans (hit_sum u (fun w => w.toInt < ((j 0).val : ℤ)) (hit_below hj.le) (by rw [pad_toInt]; omega))

theorem of_apply (u : S100000.Idx → BitVec 32) (j : S256.Idx) :
    running (F := F) .eq (shapeCast S98x1x1024 (padded u) shapeCasts_S100352_S98x1x1024) 7 j = BitVec.ofNat 32 (nOf u (j 0).val) :=
  have hj : (j 0).val < 256 := (j 0).isLt
  (running_apply .eq (padded u) j 7 le_rfl).trans (hit_sum u (fun w => w.toInt = ((j 0).val : ℤ)) (hit_of hj.le) (by rw [pad_toInt]; omega))

theorem nBelow_mono (u : S100000.Idx → BitVec 32) (k : ℕ) : nBelow u k ≤ nBelow u (k + 1) :=
  Finset.card_le_card fun n hn => Finset.mem_filter.mpr ⟨(Finset.mem_filter.mp hn).1, by have := (Finset.mem_filter.mp hn).2; push_cast; omega⟩

theorem nBelow_top (u : S100000.Idx → BitVec 32) (k : ℕ) : nBelow u k ≤ 100000 :=
  (Finset.card_filter_le _ _).trans (Finset.card_range _).le

/-- The starts of the segments, and the number of rows past the last. -/
def startOf (u : S100000.Idx → BitVec 32) (k : ℕ) : ℕ := if k < 256 then nBelow u k else 100000

theorem starts_of (u : S100000.Idx → BitVec 32) :
    Starts (concatenate S272 0 [⟨S256, running (F := F) .sgt (shapeCast S98x1x1024 (padded u) shapeCasts_S100352_S98x1x1024) 7⟩,
        ⟨S16, broadcastInDim S16 ![] bcast_S_S16 (constantI S_ 32 100000#32)⟩] concatenates_S256_S16_S272_d0) (startOf u) where
  is k hk := by
    unfold entry startOf
    by_cases h : k < 256
    · rw [if_pos h, concatenate_pair_apply_left (t := S272) (s₁ := S256) (s₂ := S16) 0 _ _ _ _ rfl (ValueIdx.ix1 (⟨k, h⟩ : Fin 256)) (fun b => by
        match b with
        | 0 => exact (Nat.mod_eq_of_lt (show k < 272 by omega)).symm), below_apply]
      have := nBelow_top u k
      exact lit _ (show nBelow u k < 2 ^ 31 by omega)
    · rw [if_neg h, concatenate_pair_apply_right (t := S272) (s₁ := S256) (s₂ := S16) 0 _ _ _ _ rfl rfl (ValueIdx.ix1 (⟨k - 256, by omega⟩ : Fin 16))
        (fun b hb => absurd (Subsingleton.elim (α := Fin 1) _ _) hb) (by
          show k - 256 + 256 = k % 272
          omega)]
      exact lit 100000
  mono k hk := by
    unfold startOf
    rw [if_pos hk]
    split
    · exact nBelow_mono u k
    · exact nBelow_top u k
  top k _ := by
    unfold startOf
    split
    · exact nBelow_top u k
    · exact le_rfl

/-! ## The arrays at the end -/

variable (m : (ℓ : Loc nD τ sig) → Buf (Elt F) ℓ) (St : Dev nD → ℕ → ℕ) (d : Dev nD)

/-- The ids at launch. -/
abbrev ids : S100000.Idx → BitVec 32 := m (d, Proc.devRef .tc main_arg1)

theorem V1_tiles : V1 m d (Proc.devRef .tc main_v2) = shapeCast S98x1x1024 (padded (ids m d)) shapeCasts_S100352_S98x1x1024 := by
  unfold V1
  simp only [StableHlo.reshape_result']
  rfl

theorem inj0 : Function.Injective fun w => arrRef spec0 w := by decide
theorem inj2 : Function.Injective fun w => arrRef spec2 w := by decide

theorem V2_below : V2 m d (Proc.devRef .tc main_v3_0) = running (F := F) .sgt (shapeCast S98x1x1024 (padded (ids m d)) shapeCasts_S100352_S98x1x1024) 7 :=
  (Pipeline.afterRegion_arr (dat0 0 (V1 m d) d) (V1 m d) inj0 1).trans ((count_lt 0 (V1 m d) d).trans (congrArg (fun v => running (F := F) .sgt v 7) (V1_tiles m d)))

theorem V2_of : V2 m d (Proc.devRef .tc main_v3_1) = running (F := F) .eq (shapeCast S98x1x1024 (padded (ids m d)) shapeCasts_S100352_S98x1x1024) 7 :=
  (Pipeline.afterRegion_arr (dat0 0 (V1 m d) d) (V1 m d) inj0 2).trans ((count_eq 0 (V1 m d) d).trans (congrArg (fun v => running (F := F) .eq v 7) (V1_tiles m d)))

theorem V3_starts : Starts (V3 m d (Proc.devRef .tc main_v5)) (startOf (ids m d)) := by
  have h : V3 m d (Proc.devRef .tc main_v5)
      = concatenate S272 0 [⟨S256, V2 m d (Proc.devRef .tc main_v3_0)⟩,
        ⟨S16, broadcastInDim S16 ![] bcast_S_S16 (constantI S_ 32 100000#32)⟩] concatenates_S256_S16_S272_d0 := by
    unfold V3
    rw [StableHlo.binary_result, StableHlo.unary_result_ne _ _ _ _ _ _ (by decide), StableHlo.nullary_result_ne _ _ _ _ (by decide)]
    rfl
  rw [h, V2_below]
  exact starts_of (ids m d)

/-- The starts on every device. -/
abbrev St₀ (d : Dev nD) : ℕ → ℕ := startOf (ids m d)

/-- A buffer that the operations up to the pooling call do not write holds at its launch what it held. -/
theorem V3_kept (r : Ref sig .tc) (h : r ∉ [main_c, main_v0, main_v1, main_v2, main_v3_0, main_v3_1, main_c_0, main_v4, main_v5]) :
    V3 m d (Proc.devRef .tc r) = m (d, Proc.devRef .tc r) := by
  simp only [List.mem_cons, List.not_mem_nil, or_false, not_or] at h
  obtain ⟨h0, h1, h2, h3, h4, h5, h6, h7, h8⟩ := h
  unfold V3
  rw [StableHlo.binary_result_ne _ _ _ _ _ _ _ _ h8, StableHlo.unary_result_ne _ _ _ _ _ _ h7, StableHlo.nullary_result_ne _ _ _ _ h6]
  unfold V2
  rw [Pipeline.afterRegion_keeps (dat0 0 (V1 m d) d) (V1 m d) inj0 (fun _ => rfl) r (fun w hw => by
    fin_cases w
    · exact rfl
    · exact absurd hw.symm h4
    · exact absurd hw.symm h5)]
  unfold V1
  rw [StableHlo.reshape_result_ne _ _ _ _ _ _ _ h3, StableHlo.binary_result_ne _ _ _ _ _ _ _ _ h2, StableHlo.unary_result_ne _ _ _ _ _ _ h1, StableHlo.nullary_result_ne _ _ _ _ h0]
  rfl

theorem V4_kept (r : Ref sig .tc) (h0 : r ≠ main_v6_0) (h1 : r ≠ main_v6_1) : V4 m St d (Proc.devRef .tc r) = V3 m d (Proc.devRef .tc r) :=
  (Function.update_of_ne (StableHlo.devRef_ne_of_ne h1) _ _).trans (Function.update_of_ne (StableHlo.devRef_ne_of_ne h0) _ _)

theorem V5_kept (r : Ref sig .tc) (h : ∀ w, arrRef spec2 w = r → (cfg2.win w).isOut = false) : V5 m St d (Proc.devRef .tc r) = V4 m St d (Proc.devRef .tc r) :=
  Pipeline.afterRegion_keeps (dat2 1 (V4 m St d) d) (V4 m St d) inj2 (fun _ => rfl) r h

theorem V5_arg0 : V5 m St d (Proc.devRef .tc main_arg0) = m (d, Proc.devRef .tc main_arg0) :=
  ((V5_kept m St d main_arg0 (by decide)).trans (V4_kept m St d main_arg0 (by decide) (by decide))).trans (V3_kept m d main_arg0 (by decide))
theorem V5_arg1 : V5 m St d (Proc.devRef .tc main_arg1) = m (d, Proc.devRef .tc main_arg1) :=
  ((V5_kept m St d main_arg1 (by decide)).trans (V4_kept m St d main_arg1 (by decide) (by decide))).trans (V3_kept m d main_arg1 (by decide))
theorem V5_arg2 : V5 m St d (Proc.devRef .tc main_arg2) = m (d, Proc.devRef .tc main_arg2) :=
  ((V5_kept m St d main_arg2 (by decide)).trans (V4_kept m St d main_arg2 (by decide) (by decide))).trans (V3_kept m d main_arg2 (by decide))
theorem V5_arg3 : V5 m St d (Proc.devRef .tc main_arg3) = m (d, Proc.devRef .tc main_arg3) :=
  ((V5_kept m St d main_arg3 (by decide)).trans (V4_kept m St d main_arg3 (by decide) (by decide))).trans (V3_kept m d main_arg3 (by decide))
theorem V5_arg4 : V5 m St d (Proc.devRef .tc main_arg4) = m (d, Proc.devRef .tc main_arg4) :=
  ((V5_kept m St d main_arg4 (by decide)).trans (V4_kept m St d main_arg4 (by decide) (by decide))).trans (V3_kept m d main_arg4 (by decide))

/-- The kernel's result. -/
def result : FVec F S256x512 .f32 :=
  linear (pooledS (m (d, Proc.devRef .tc main_arg0)) (startOf (ids m d))) (pooledM (m (d, Proc.devRef .tc main_arg0)) (startOf (ids m d)))
    (fun j => BitVec.ofNat 32 (nOf (ids m d) (j 0).val))
    ((m (d, Proc.devRef .tc main_arg2) : FVec F S3 .f32) (ValueIdx.ix1 0)) ((m (d, Proc.devRef .tc main_arg2) : FVec F S3 .f32) (ValueIdx.ix1 1)) ((m (d, Proc.devRef .tc main_arg2) : FVec F S3 .f32) (ValueIdx.ix1 2))
    (m (d, Proc.devRef .tc main_arg3)) (m (d, Proc.devRef .tc main_arg4))

theorem V5_result : V5 m (St₀ m) d (Proc.devRef .tc main_v7) = result m d := by
  refine (Pipeline.afterRegion_arr (dat2 1 (V4 m (St₀ m) d) d) (V4 m (St₀ m) d) inj2 6).trans ((linear_out 1 _ d).trans ?_)
  have hs : V4 m (St₀ m) d (Proc.devRef .tc main_v6_0) = pooledS (V3 m d (Proc.devRef .tc main_arg0)) (startOf (ids m d)) := V4_s m (St₀ m) d
  have hm : V4 m (St₀ m) d (Proc.devRef .tc main_v6_1) = pooledM (V3 m d (Proc.devRef .tc main_arg0)) (startOf (ids m d)) := V4_m m (St₀ m) d
  have hc : V4 m (St₀ m) d (Proc.devRef .tc main_v3_1) = fun j => BitVec.ofNat 32 (nOf (ids m d) (j 0).val) := by
    rw [V4_kept m (St₀ m) d main_v3_1 (by decide) (by decide)]
    unfold V3
    rw [StableHlo.binary_result_ne _ _ _ _ _ _ _ _ (by decide), StableHlo.unary_result_ne _ _ _ _ _ _ (by decide), StableHlo.nullary_result_ne _ _ _ _ (by decide), V2_of]
    exact funext fun j => of_apply (ids m d) j
  unfold linearOf result
  rw [hs, hm, hc, V4_kept m (St₀ m) d main_arg2 (by decide) (by decide), V4_kept m (St₀ m) d main_arg3 (by decide) (by decide), V4_kept m (St₀ m) d main_arg4 (by decide) (by decide),
    V3_kept m d main_arg0 (by decide), V3_kept m d main_arg2 (by decide), V3_kept m d main_arg3 (by decide), V3_kept m d main_arg4 (by decide)]
  rfl

/-- Every run of the kernel's program: the result it leaves, its arguments as they were, its semaphores at zero. -/
theorem run_main (ρ : Dev nD → PrngReg) [∀ e, Nonempty (Elt F e)] :
    θ_run (Cert.KernelIdeal.defs (F := F)) (Cert.KernelIdeal.threads (F := F)) ⟨m, fun _ => 0, ρ⟩
      fun r => (∀ c : Dev nD, r.2.mem ((c.tc : Thread nD τ).loc main_v7) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0 :=
  (θ_run _ _ _).mono (fun r h => ⟨fun c => ⟨(h.1 c main_v7 rfl).trans (V5_result m c), (h.1 c main_arg0 rfl).trans (V5_arg0 m _ c),
      (h.1 c main_arg1 rfl).trans (V5_arg1 m _ c), (h.1 c main_arg2 rfl).trans (V5_arg2 m _ c), (h.1 c main_arg3 rfl).trans (V5_arg3 m _ c),
      (h.1 c main_arg4 rfl).trans (V5_arg4 m _ c)⟩, h.2⟩)
    (run m ρ (St₀ m) fun d => V3_starts m d)

end Cert.Proof.Pool

end
-- ==== Proof.Pool.Sorted.lean ====
/-
  What sorted ids give: the rows of one segment are the rows from its start to the next, so that the sum and the greatest of a
  column from one start to the next are those over the rows with the segment's id.
-/
module

public import proofs.«01_k».proof.Proof.Pool.Starts
public import Idealize.ShloMosaic.Lib.IdealHost

@[expose] public section

noncomputable section

namespace Cert.Proof.Pool

open Cert.KernelIdeal Cert.KernelIdeal.Gen

open Idealize.ShloMosaic

/-- The ids are segment numbers, in order. -/
structure SortedIds (u : S100000.Idx → BitVec 32) : Prop where
  nonneg : ∀ n < 100000, 0 ≤ (idAt u n).toInt
  small : ∀ n < 100000, (idAt u n).toInt < 256
  step : ∀ n, n + 1 < 100000 → (idAt u n).toInt ≤ (idAt u (n + 1)).toInt

/-- A finite set of numbers that has with a number all the smaller ones is the numbers below its size. -/
theorem mem_iff_lt_card {S : Finset ℕ} (h : ∀ a b, a ≤ b → b ∈ S → a ∈ S) (n : ℕ) : n ∈ S ↔ n < S.card := by
  constructor
  · intro hn
    have := Finset.card_le_card (s := Finset.range (n + 1)) fun a ha => h a n (Nat.lt_succ_iff.mp (Finset.mem_range.mp ha)) hn
    rwa [Finset.card_range] at this
  · intro hn
    by_contra hc
    have := Finset.card_le_card (t := Finset.range n) fun b hb => Finset.mem_range.mpr (lt_of_not_ge fun hnb => hc (h n b hnb hb))
    rw [Finset.card_range] at this
    omega

namespace SortedIds

variable {u : S100000.Idx → BitVec 32} (h : SortedIds u)

include h

theorem le {a b : ℕ} (hab : a ≤ b) (hb : b < 100000) : (idAt u a).toInt ≤ (idAt u b).toInt := by
  induction b, hab using Nat.le_induction with
  | base => exact le_rfl
  | succ b _ ih => exact (ih (Nat.lt_of_succ_lt hb)).trans (h.step b hb)

/-- The rows with an id below `k` come first. -/
theorem below_iff {n : ℕ} (hn : n < 100000) (k : ℕ) : (idAt u n).toInt < k ↔ n < nBelow u k := by
  refine Iff.trans ?_ (mem_iff_lt_card (S := (Finset.range 100000).filter fun n => (idAt u n).toInt < k) (fun a b hab hb => ?_) n)
  · rw [Finset.mem_filter, Finset.mem_range]
    exact ⟨fun hk => ⟨hn, hk⟩, fun hk => hk.2⟩
  · rw [Finset.mem_filter, Finset.mem_range] at hb ⊢
    exact ⟨by omega, (h.le hab hb.1).trans_lt hb.2⟩

/-- Every start is the number of rows with a smaller id. -/
theorem start_eq (k : ℕ) : startOf u k = nBelow u k := by
  unfold startOf
  split
  · rfl
  · next hk =>
    unfold nBelow
    rw [Finset.filter_true_of_mem fun n hn => (h.small n (Finset.mem_range.mp hn)).trans_le (by omega), Finset.card_range]

/-- The rows of segment `k` are those from its start to the next. -/
theorem rows_eq (k : ℕ) : ((Finset.range 100000).filter fun n => (idAt u n).toInt = k) = Finset.Ico (startOf u k) (startOf u (k + 1)) := by
  ext n
  rw [Finset.mem_filter, Finset.mem_range, Finset.mem_Ico, h.start_eq, h.start_eq]
  constructor
  · rintro ⟨hn, hk⟩
    have h0 := (h.below_iff hn k).not
    have h1 := h.below_iff hn (k + 1)
    push_cast at h1
    exact ⟨not_lt.mp (h0.mp (by omega)), h1.mp (by omega)⟩
  · rintro ⟨h0, h1⟩
    have hn : n < 100000 := h1.trans_le (nBelow_top u (k + 1))
    have h2 := (h.below_iff hn (k + 1)).mpr h1
    have h3 := mt (h.below_iff hn k).mp (not_lt.mpr h0)
    push_cast at h2
    exact ⟨hn, by omega⟩

end SortedIds

/-! ## Sums and greatest elements of exact values -/

theorem negInf : (Scalar.ofBits .f32 0xFF800000#32 : Ideal .f32) = (⊥ : EReal) := by
  show Ideal.ofBits .f32 0xFF800000#32 = ⊥
  simp [Ideal.ofBits, Ideal.ieee]

theorem zeroWord : (Scalar.ofBits .f32 0x00000000#32 : Ideal .f32) = (0 : EReal) := Ideal.ofBits_zero_f32

theorem oneWord : (Scalar.ofBits .f32 0x3F800000#32 : Ideal .f32) = (1 : EReal) := Ideal.ofBits_one_f32

theorem colS_sum (X : S100000x512.Idx → Ideal .f32) (a c n : ℕ) : colS X a c n = (∑ i ∈ Finset.range n, atRC X (a + i) c : EReal) := by
  induction n with
  | zero => exact zeroWord
  | succ n ih => exact (congrArg (· + atRC X (a + n) c) ih).trans (Finset.sum_range_succ (fun i => (atRC X (a + i) c : EReal)) n).symm

theorem colM_sup (X : S100000x512.Idx → Ideal .f32) (a c n : ℕ) : colM X a c n = ((Finset.range n).sup fun i => atRC X (a + i) c : EReal) := by
  induction n with
  | zero => exact negInf
  | succ n ih =>
    rw [Finset.range_add_one, Finset.sup_insert, sup_comm, ← ih]
    rfl

/-- The rows with the id `k`. -/
def rowsOf (u : S100000.Idx → BitVec 32) (k : ℕ) : Finset ℕ := (Finset.range 100000).filter fun n => (idAt u n).toInt = k

theorem range_Ico_sup {M : Type} [SemilatticeSup M] [OrderBot M] (f : ℕ → M) (a b : ℕ) : ((Finset.range (b - a)).sup fun i => f (a + i)) = (Finset.Ico a b).sup f := by
  refine le_antisymm (Finset.sup_le fun i hi => ?_) (Finset.sup_le fun n hn => ?_)
  · have := Finset.mem_range.mp hi
    exact Finset.le_sup (f := f) (Finset.mem_Ico.mpr ⟨by omega, by omega⟩)
  · obtain ⟨h0, h1⟩ := Finset.mem_Ico.mp hn
    have := Finset.le_sup (f := fun i => f (a + i)) (Finset.mem_range.mpr (show n - a < b - a by omega))
    rwa [show a + (n - a) = n by omega] at this

theorem pooledS_rows {u : S100000.Idx → BitVec 32} (h : SortedIds u) (X : S100000x512.Idx → Ideal .f32) (r : Fin 256) (c : Fin 512) :
    pooledS X (startOf u) (ValueIdx.ix2 r c) = (∑ n ∈ rowsOf u r.val, atRC X n c.val : EReal) := by
  unfold rowsOf
  rw [h.rows_eq, Finset.sum_Ico_eq_sum_range]
  exact colS_sum X _ _ _

theorem pooledM_rows {u : S100000.Idx → BitVec 32} (h : SortedIds u) (X : S100000x512.Idx → Ideal .f32) (r : Fin 256) (c : Fin 512) :
    pooledM X (startOf u) (ValueIdx.ix2 r c) = ((rowsOf u r.val).sup fun n => atRC X n c.val : EReal) := by
  unfold rowsOf
  rw [h.rows_eq, ← range_Ico_sup fun n => (atRC X n c.val : EReal)]
  exact colM_sup X _ _ _

end Cert.Proof.Pool

end
-- ==== Proof.Pool.Segments.lean ====
/-
  The reference's three poolings at a segment and a column: its two scatters add over the rows with the segment's id, and its
  masked maximum is the greatest over those rows.
-/
module

public import proofs.«01_k».proof.Proof.Pool.Sorted
public import proofs.«01_k».proof.Proof.Gen.ReferenceIdeal
public import Idealize.ShloMosaic.Lib.Routing.OpsPair

@[expose] public section

noncomputable section

namespace Cert.Proof.Pool

open Cert.ReferenceIdeal Cert.ReferenceIdeal.Gen

open Idealize.ShloMosaic

/-! ## Where an update lands -/

/-- Row `j 0`'s update lands at the segment its index word names, in its own column. -/
theorem lands_row (j : S100000x512.Idx) (idx : IVec S100000x1 32) (r : Fin 256) (c : Fin 512) :
    scatter_S256x512_S100000x1_S100000x512_1_0_0_1.resultIdx? j idx = some (ValueIdx.ix2 r c)
      ↔ (idx (ValueIdx.ix2 (j 0) 0)).toInt = (r.val : ℤ) ∧ (j 1).val = c.val := by
  have s0 : scatter_S256x512_S100000x1_S100000x512_1_0_0_1.start j idx 0 = (idx (ValueIdx.ix2 (j 0) 0)).toInt := by
    unfold ScatterDims.start
    rw [dif_pos (by decide)]
    refine congrArg (fun i => (idx i).toInt) (funext fun b => ?_)
    match b with
    | 0 => rfl
    | 1 => rfl
  have s1 : scatter_S256x512_S100000x1_S100000x512_1_0_0_1.start j idx 1 = 0 := by
    unfold ScatterDims.start
    rw [dif_neg (by decide)]
  have w0 : scatter_S256x512_S100000x1_S100000x512_1_0_0_1.window j 0 = 0 := by
    unfold ScatterDims.window
    rw [dif_neg (by decide)]
  have w1 : scatter_S256x512_S100000x1_S100000x512_1_0_0_1.window j 1 = (j 1).val := by
    unfold ScatterDims.window
    rw [dif_pos (by decide)]
    rfl
  rw [Routing.resultIdx?_eq_some]
  constructor
  · intro h
    have h0 := h 0
    have h1 := h 1
    rw [s0, w0] at h0
    rw [s1, w1] at h1
    exact ⟨(add_zero _).symm.trans h0, by exact_mod_cast (zero_add _).symm.trans h1⟩
  · rintro ⟨h0, h1⟩ a
    match a with
    | 0 => exact (congrArg₂ (fun (x : ℤ) (y : ℕ) => x + (y : ℤ)) s0 w0).trans ((add_zero _).trans h0)
    | 1 => exact (congrArg₂ (fun (x : ℤ) (y : ℕ) => x + (y : ℤ)) s1 w1).trans ((zero_add _).trans (congrArg _ h1))

/-- Row `j 0`'s one lands at the segment its index word names. -/
theorem lands_one (j : S100000.Idx) (idx : IVec S100000x1 32) (i : S256.Idx) :
    scatter_S256_S100000x1_S100000_n_0_0_1.resultIdx? j idx = some i ↔ (idx (ValueIdx.ix2 (j 0) 0)).toInt = ((i 0).val : ℤ) := by
  have s0 : scatter_S256_S100000x1_S100000_n_0_0_1.start j idx 0 = (idx (ValueIdx.ix2 (j 0) 0)).toInt := by
    unfold ScatterDims.start
    rw [dif_pos (by decide)]
    refine congrArg (fun i => (idx i).toInt) (funext fun b => ?_)
    match b with
    | 0 => rfl
    | 1 => rfl
  have w0 : scatter_S256_S100000x1_S100000_n_0_0_1.window j 0 = 0 := by
    unfold ScatterDims.window
    rw [dif_neg (by decide)]
  rw [Routing.resultIdx?_eq_some]
  constructor
  · intro h
    have h0 := h 0
    rw [s0, w0] at h0
    exact (add_zero _).symm.trans h0
  · intro h a
    match a with
    | 0 => exact (congrArg₂ (fun (x : ℤ) (y : ℕ) => x + (y : ℤ)) s0 w0).trans ((add_zero _).trans h)

/-! ## The sums -/

variable (u : IVec S100000 32) (X : FVec Ideal S100000x512 .f32)

/-- The reference's sums. -/
def segSum : FVec Ideal S256x512 .f32 :=
  Host.scatterAdd scatter_S256x512_S100000x1_S100000x512_1_0_0_1 (broadcastInDim S256x512 ![] bcast_S_S256x512 (constant S_ .f32 0x00000000#32))
    (broadcastInDim S100000x1 ![0] bcast_S100000_S100000x1_0 u) X

theorem column_apply (v : IVec S100000 32) (n : Fin 100000) : broadcastInDim S100000x1 ![0] bcast_S100000_S100000x1_0 v (ValueIdx.ix2 n 0) = idAt v n.val := by
  simp only [pointwise]
  refine congrArg v (funext fun b => Fin.ext ?_)
  match b with
  | 0 => exact (Nat.mod_eq_of_lt n.isLt).symm

theorem segSum_rows (r : Fin 256) (c : Fin 512) : segSum u X (ValueIdx.ix2 r c) = (∑ n ∈ rowsOf u r.val, atRC X n c.val : EReal) := by
  rw [segSum, Host.scatterAdd, Ideal.hostScatterAdd_def, Ideal.hostScatterAdd]
  refine (congrArg (· + _) zeroWord).trans ((zero_add _).trans ?_)
  refine Finset.sum_nbij' (fun j => (j 0).val) (fun n => ValueIdx.ix2 (Fin.ofNat 100000 n) c) (fun j hj => ?_) (fun n hn => ?_) (fun j hj => ?_) (fun n hn => ?_) (fun j hj => ?_)
  · have h := (lands_row _ _ _ _).mp (Finset.mem_filter.mp hj).2
    exact Finset.mem_filter.mpr ⟨Finset.mem_range.mpr (j 0).isLt, (congrArg BitVec.toInt (column_apply u (j 0))).symm.trans h.1⟩
  · obtain ⟨hn, hk⟩ := Finset.mem_filter.mp hn
    refine Finset.mem_filter.mpr ⟨Finset.mem_univ _, (lands_row _ _ _ _).mpr ⟨?_, rfl⟩⟩
    refine (congrArg BitVec.toInt (column_apply u (Fin.ofNat 100000 n))).trans ?_
    rwa [show (Fin.ofNat 100000 n).val = n from Nat.mod_eq_of_lt (Finset.mem_range.mp hn)]
  · have h := (lands_row _ _ _ _).mp (Finset.mem_filter.mp hj).2
    funext b
    apply Fin.ext
    match b with
    | 0 => exact Nat.mod_eq_of_lt (j 0).isLt
    | 1 => exact h.2.symm
  · exact Nat.mod_eq_of_lt (Finset.mem_range.mp (Finset.mem_filter.mp hn).1)
  · have h := (lands_row _ _ _ _).mp (Finset.mem_filter.mp hj).2
    refine congrArg X (funext fun b => Fin.ext ?_)
    match b with
    | 0 => exact (Nat.mod_eq_of_lt (j 0).isLt).symm
    | 1 => exact h.2.trans (Nat.mod_eq_of_lt c.isLt).symm

/-! ## The greatest elements -/

/-- The reference's maxima. -/
def segMax : FVec Ideal S256x512 .f32 :=
  Host.reduce FloatOps.maximumf
    (select
      (broadcastInDim S256x100000x512 ![0, 1, 2] bcast_S256x100000x1_S256x100000x512_0_1_2
        (broadcastInDim S256x100000x1 ![0, 1] bcast_S256x100000_S256x100000x1_0_1
          (cmpi .eq (broadcastInDim S256x100000 ![0, 1] bcast_S1x100000_S256x100000_0_1 (broadcastInDim S1x100000 ![1] bcast_S100000_S1x100000_1 u))
            (broadcastInDim S256x100000 ![0, 1] bcast_S256x1_S256x100000_0_1 (broadcastInDim S256x1 ![0] bcast_S256_S256x1_0 (iotaInDim S256 32 0))))))
      (broadcastInDim S256x100000x512 ![0, 1, 2] bcast_S1x100000x512_S256x100000x512_0_1_2 (broadcastInDim S1x100000x512 ![1, 2] bcast_S100000x512_S1x100000x512_1_2 X))
      (broadcastInDim S256x100000x512 ![] bcast_S_S256x100000x512 (id (constant S_ .f32 0xFF800000#32))))
    (constant S_ .f32 0xFF800000#32) reducesTo_S256x100000x512_S256x512_d1 h_S_

theorem segMax_rows (r : Fin 256) (c : Fin 512) : segMax u X (ValueIdx.ix2 r c) = ((rowsOf u r.val).sup fun n => atRC X n c.val : EReal) := by
  have hr : ∀ w : BitVec 32, w = BitVec.ofNat 32 r.val ↔ w.toInt = (r.val : ℤ) := fun w =>
    ⟨fun e => e ▸ toInt_seg r.isLt.le, fun e => BitVec.eq_of_toInt_eq (e.trans (toInt_seg r.isLt.le).symm)⟩
  have hk : ∀ k : Fin 100000, Scalar.select (IntOp.cmpi .eq (u (ValueIdx.ix1 k)) (BitVec.ofNat 32 r.val)) (X (ValueIdx.ix2 k c)) (⊥ : EReal)
      = if (idAt u k.val).toInt = (r.val : ℤ) then atRC X k.val c.val else ⊥ := fun k => by
    have hn : Fin.ofNat 100000 k.val = k := Fin.ext (Nat.mod_eq_of_lt k.isLt)
    have hc : Fin.ofNat 512 c.val = c := Fin.ext (Nat.mod_eq_of_lt c.isLt)
    unfold idAt atRC
    rw [hn, hc]
    split
    · next e =>
      rw [(hr _).mpr e, show IntOp.cmpi .eq (BitVec.ofNat 32 r.val) (BitVec.ofNat 32 r.val) = 1#1 from congrArg BitVec.ofBool (beq_self_eq_true _)]
      exact ValueIdx.select_one _ _
    · next e =>
      rw [show IntOp.cmpi .eq (u (ValueIdx.ix1 k)) (BitVec.ofNat 32 r.val) = 0#1 from congrArg BitVec.ofBool (beq_eq_false_iff_ne.mpr (mt (hr _).mp e))]
      exact ValueIdx.select_zero _ _
  refine Eq.trans (b := Finset.univ.sup fun k : Fin 100000 => if (idAt u k.val).toInt = (r.val : ℤ) then (atRC X k.val c.val : EReal) else ⊥) ?_ ?_
  · unfold segMax
    simp only [pointwise]
    refine (congrArg (fun b => Finset.fold max b _ _) negInf).trans (Finset.fold_congr fun k _ => ?_)
    refine Eq.trans ?_ (hk k)
    refine congrArg (Scalar.select _ _) negInf
  · refine le_antisymm (Finset.sup_le fun k _ => ?_) (Finset.sup_le fun n hn => ?_)
    · split
      · next e => exact Finset.le_sup (f := fun n => (atRC X n c.val : EReal)) (Finset.mem_filter.mpr ⟨Finset.mem_range.mpr k.isLt, e⟩)
      · exact bot_le
    · obtain ⟨hn, e⟩ := Finset.mem_filter.mp hn
      refine le_trans (le_of_eq (if_pos e).symm) (Finset.le_sup (f := fun k : Fin 100000 => if (idAt u k.val).toInt = (r.val : ℤ) then (atRC X k.val c.val : EReal) else ⊥)
        (Finset.mem_univ (⟨n, Finset.mem_range.mp hn⟩ : Fin 100000)))

/-! ## The sizes -/

/-- The ids as the reference counts them: negative ones as zero. -/
def clipped : IVec S100000 32 := maxsi (broadcastInDim S100000 ![] bcast_S_S100000 (id (constantI S_ 32 0#32))) u

/-- The reference's sizes of the segments. -/
def segCount : IVec S256 32 :=
  Host.scatter scatter_S256_S100000x1_S100000_n_0_0_1 IntOp.addi (broadcastInDim S256 ![] bcast_S_S256 (constantI S_ 32 0#32))
    (broadcastInDim S100000x1 ![0] bcast_S100000_S100000x1_0
      (select (cmpi .slt (clipped u) (broadcastInDim S100000 ![] bcast_S_S100000 (constantI S_ 32 0#32)))
        (addi (clipped u) (broadcastInDim S100000 ![] bcast_S_S100000 (constantI S_ 32 256#32))) (clipped u)))
    (broadcastInDim S100000 ![] bcast_S_S100000 (constantI S_ 32 1#32))

theorem foldl_ones {n : ℕ} (p : Fin n → Prop) [DecidablePred p] (L : List (Fin n)) (a : BitVec 32) :
    L.foldl (fun a i => if p i then a + 1#32 else a) a = a + (L.map fun i => if p i then 1#32 else 0#32).sum := by
  induction L generalizing a with
  | nil => exact (add_zero a).symm
  | cons i L ih =>
    rw [List.foldl_cons, ih, List.map_cons, List.sum_cons, ← add_assoc]
    split
    · rfl
    · rw [show a + 0#32 = a from add_zero a]

theorem segCount_of {u : IVec S100000 32} (h : SortedIds u) : segCount u = fun j => BitVec.ofNat 32 (nOf u (j 0).val) := by
  funext i
  have hid : ∀ n : Fin 100000, broadcastInDim S100000x1 ![0] bcast_S100000_S100000x1_0
      (select (cmpi .slt (clipped u) (broadcastInDim S100000 ![] bcast_S_S100000 (constantI S_ 32 0#32)))
        (addi (clipped u) (broadcastInDim S100000 ![] bcast_S_S100000 (constantI S_ 32 256#32))) (clipped u)) (ValueIdx.ix2 n 0) = idAt u n.val := fun n => by
    rw [column_apply]
    have h0 := h.nonneg n.val n.isLt
    have hm : IntOp.maxsi 0#32 (idAt u n.val) = idAt u n.val := by
      refine if_neg fun hlt => ?_
      rw [BitVec.slt, decide_eq_true_eq] at hlt
      exact absurd hlt (not_lt.mpr h0)
    have hs : IntOp.cmpi .slt (idAt u n.val) 0#32 = 0#1 := by
      show BitVec.ofBool ((idAt u n.val).slt 0#32) = 0#1
      rw [BitVec.slt, decide_eq_false]
      · rfl
      · exact not_lt.mpr h0
    show Scalar.select (IntOp.cmpi .slt (IntOp.maxsi 0#32 (idAt u n.val)) 0#32) _ (IntOp.maxsi 0#32 (idAt u n.val)) = _
    rw [hm, hs]
    exact ValueIdx.select_zero _ _
  rw [segCount, Routing.scatter_at]
  refine (foldl_ones (fun n => scatter_S256_S100000x1_S100000_n_0_0_1.resultIdx? (S100000.rowMajor.symm n) _ = some i) _ 0#32).trans ?_
  rw [← Fin.sum_univ_def, Equiv.sum_comp S100000.rowMajor.symm fun j => if scatter_S256_S100000x1_S100000_n_0_0_1.resultIdx? j _ = some i then 1#32 else 0#32]
  refine (zero_add _).trans ?_
  unfold nOf
  refine Eq.trans ?_ ((Finset.sum_boole (R := BitVec 32) (fun n => (idAt u n).toInt = ((i 0).val : ℤ)) (Finset.range 100000)).trans (BitVec.natCast_eq_ofNat _ _))
  refine (Finset.sum_nbij' (fun n => ValueIdx.ix1 (Fin.ofNat 100000 n)) (fun j => (j 0).val) (fun n hn => Finset.mem_univ _)
    (fun j _ => Finset.mem_range.mpr (j 0).isLt) (fun n hn => Nat.mod_eq_of_lt (Finset.mem_range.mp hn)) (fun j _ => funext fun b => Fin.ext ?_) (fun n hn => ?_)).symm
  · match b with
    | 0 => exact Nat.mod_eq_of_lt (j 0).isLt
  · have hn' : (Fin.ofNat 100000 n).val = n := Nat.mod_eq_of_lt (Finset.mem_range.mp hn)
    refine if_congr (Iff.trans ?_ (lands_one _ _ _).symm) rfl rfl
    rw [show ((ValueIdx.ix1 (Fin.ofNat 100000 n) : S100000.Idx) 0) = Fin.ofNat 100000 n from rfl, hid, hn']

end Cert.Proof.Pool

end
-- ==== Proof.Pool.Value.lean ====
/-
  The kernel's result is the reference's: at sorted ids the poolings agree, a sum times the weight over the size is the weight
  times the sum over the size, and the product with a matrix's rows is the product with its transpose.
-/
module

public import proofs.«01_k».proof.Proof.Pool.Segments

@[expose] public section

noncomputable section

namespace Cert.Proof.Pool

open Cert.ReferenceIdeal Cert.ReferenceIdeal.Gen

open Idealize.ShloMosaic

theorem eq_ix2 {α : Type} {A B : ℕ} {f g : (⟨2, ![A, B]⟩ : Shape).Idx → α} (h : ∀ (a : Fin A) (b : Fin B), f (ValueIdx.ix2 a b) = g (ValueIdx.ix2 a b)) : f = g := by
  funext j
  have hj : j = ValueIdx.ix2 (j 0) (j 1) := funext fun b => match b with
    | 0 => rfl
    | 1 => rfl
  rw [hj]
  exact h _ _

/-- A weight, as the reference takes it out of its three. -/
def weight (k : ℕ) (w : FVec Ideal S3 .f32) (h : S3.Slices ![k] S1) : FVec Ideal S256x512 .f32 :=
  broadcastInDim S256x512 ![] bcast_S_S256x512 (shapeCast S_ (extractStridedSlice S1 ![k] w h) shapeCasts_S1_S_)

theorem weight_apply (k : Fin 3) (w : FVec Ideal S3 .f32) (h : S3.Slices ![k.val] S1) (j : S256x512.Idx) : weight k.val w h j = w (ValueIdx.ix1 k) := by
  unfold weight
  simp only [pointwise]
  refine congrArg w (funext fun b => Fin.ext ?_)
  match b with
  | 0 => exact Nat.add_zero _

/-- The reference's sizes of the segments, at least one, each along its row. -/
def sizes (C : IVec S256 32) : FVec Ideal S256x512 .f32 :=
  broadcastInDim S256x512 ![0, 1] bcast_S256x1_S256x512_0_1 (broadcastInDim S256x1 ![0] bcast_S256_S256x1_0
    (maximumf (sitofp .f32 C) (broadcastInDim S256 ![] bcast_S_S256 (constant S_ .f32 0x3F800000#32))))

theorem mul_div (s w y : EReal) (hy : y ≠ 0) : s * Ideal.div w y = w * Ideal.div s y := by
  unfold Ideal.div
  rw [if_neg hy, if_neg hy, ← mul_assoc, ← mul_assoc, mul_comm s w]

/-- The kernel's first block is the reference's. -/
theorem mean_eq (S : FVec Ideal S256x512 .f32) (C : IVec S256 32) (w : FVec Ideal S3 .f32) :
    mulf S (broadcastTo S256x512 (shapeCast Cert.KernelIdeal.S256x1 (divf (broadcast S256 (w (ValueIdx.ix1 0)))
        (maximumf (sitofp .f32 C) (broadcast S256 (Scalar.ofBits .f32 0x3F800000#32)))) Cert.KernelIdeal.Gen.shapeCasts_S256_S256x1)
        Cert.KernelIdeal.Gen.broadcasts_S256x1_S256x512)
      = mulf (weight 0 w slices_S3_S1_0) (Host.divf S (sizes C)) := by
  refine eq_ix2 fun r c => ?_
  refine Eq.trans ?_ (congrArg (fun z : EReal => z * Ideal.div (S (ValueIdx.ix2 r c)) (sizes C (ValueIdx.ix2 r c))) (weight_apply 0 w slices_S3_S1_0 (ValueIdx.ix2 r c))).symm
  unfold sizes
  simp only [pointwise]
  exact mul_div _ _ _ (ne_of_gt (lt_of_lt_of_le zero_lt_one (le_max_right _ _)))

/-- The reference's result. -/
def reference (x : FVec Ideal S100000x512 .f32) (u : IVec S100000 32) (w : FVec Ideal S3 .f32) (W : FVec Ideal S512x1536 .f32) (B : FVec Ideal S512 .f32) :
    FVec Ideal S256x512 .f32 :=
  addf (Host.dotGeneral dot_S256x1536_S1536x512_S256x512_1_0_0_1_n_n none
      (concatenate S256x1536 1
        [⟨S256x512, mulf (weight 0 w slices_S3_S1_0) (Host.divf (segSum u x) (sizes (segCount u)))⟩,
          ⟨S256x512, mulf (weight 1 w slices_S3_S1_1) (segMax u x)⟩, ⟨S256x512, mulf (weight 2 w slices_S3_S1_2) (segSum u x)⟩]
        concatenates_S256x512_S256x512_S256x512_S256x1536_d1)
      (transpose S1536x512 [1, 0] W transposes_S512x1536_S1536x512_1_0))
    (broadcastInDim S256x512 ![0, 1] bcast_S1x512_S256x512_0_1 (broadcastInDim S1x512 ![1] bcast_S512_S1x512_1 B))

theorem linear_eq (x : FVec Ideal S100000x512 .f32) {u : IVec S100000 32} (h : SortedIds u) (w : FVec Ideal S3 .f32) (W : FVec Ideal S512x1536 .f32) (B : FVec Ideal S512 .f32) :
    linear (pooledS x (startOf u)) (pooledM x (startOf u)) (fun j => BitVec.ofNat 32 (nOf u (j 0).val)) (w (ValueIdx.ix1 0)) (w (ValueIdx.ix1 1)) (w (ValueIdx.ix1 2)) W B
      = reference x u w W B := by
  have hs : segSum u x = pooledS x (startOf u) := eq_ix2 fun r c => (segSum_rows u x r c).trans (pooledS_rows h x r c).symm
  have hm : segMax u x = pooledM x (startOf u) := eq_ix2 fun r c => (segMax_rows u x r c).trans (pooledM_rows h x r c).symm
  have h1 : weight 1 w slices_S3_S1_1 = broadcast S256x512 (w (ValueIdx.ix1 1)) := funext (weight_apply 1 w slices_S3_S1_1)
  have h2 : weight 2 w slices_S3_S1_2 = broadcast S256x512 (w (ValueIdx.ix1 2)) := funext (weight_apply 2 w slices_S3_S1_2)
  unfold linear reference combined
  rw [mean_eq, hs, hm, h1, h2, segCount_of h]
  generalize concatenate (α := Ideal .f32) S256x1536 1 _ _ = D
  refine eq_ix2 fun r c => ?_
  simp only [pointwise]
  rfl

end Cert.Proof.Pool

end
-- ==== Proof.Pool.Sortedness.lean ====
/-
  The value claim's precondition says that the ids are segment numbers, in order.
-/
module

public import proofs.«01_k».proof.Proof.Pool.Sorted
public import proofs.«01_k».proof.Proof.Gen.Pre_batch_sorted
public import Idealize.ShloMosaic.Lib.ReduceAll

@[expose] public section

noncomputable section

namespace Cert.Proof.Pool

open Cert.Pre_batch_sorted Cert.Pre_batch_sorted.Gen

open Idealize.ShloMosaic

variable {F : FTy → Type} [FloatOps F]

theorem bits_of_and {a b : BitVec 1} (h : IntOp.andi a b = 1#1) : a = 1#1 ∧ b = 1#1 := by
  revert h
  revert a b
  decide

theorem slice_apply (u : IVec S100000 32) (k n : ℕ) (h : S100000.Slices ![k] S99999) (hn : n < 99999) (hk : k + n < 100000) :
    extractStridedSlice S99999 ![k] u h (ValueIdx.ix1 ⟨n, hn⟩) = idAt u (k + n) := by
  refine congrArg u (funext fun b => Fin.ext ?_)
  match b with
  | 0 => exact (Nat.mod_eq_of_lt hk).symm

theorem sorted_of_pre (x : FVec F S100000x512 .f32) (u : IVec S100000 32) (w : FVec F S3 .f32) (W : FVec F S512x1536 .f32) (B : FVec F S512 .f32)
    (h : fn x u w W B = fun _ => 1#1) : SortedIds u := by
  have h1 := congrFun h (fun a => a.elim0)
  dsimp only [fn] at h1
  obtain ⟨h2, hle⟩ := bits_of_and h1
  obtain ⟨hge, hlt⟩ := bits_of_and h2
  refine ⟨fun n _ => ?_, fun n _ => ?_, fun n hn => ?_⟩
  · exact IntOp.cmpi_sge.mp (Host.reduce_andi_all _ _ _ _ _ hge (ValueIdx.ix1 (Fin.ofNat 100000 n)))
  · exact IntOp.cmpi_slt.mp (Host.reduce_andi_all _ _ _ _ _ hlt (ValueIdx.ix1 (Fin.ofNat 100000 n)))
  · have e := IntOp.cmpi_sle.mp (Host.reduce_andi_all _ _ _ _ _ hle (ValueIdx.ix1 ⟨n, by omega⟩))
    rw [slice_apply u 0 n _ (by omega) (by omega), slice_apply u 1 n _ (by omega) (by omega), Nat.zero_add, Nat.add_comm 1] at e
    exact e

end Cert.Proof.Pool

end
-- ==== Proof.lean ====
/-
  The proof of `Cert.Claim`. The kernel's run is proved once, over any floats (Proof/Pool/); the frames of `Kernel` and
  `KernelIdeal` are that run at two instances, the frame of `ReferenceIdeal` is its own generated run, and the value claim is that
  the two runs' results are one at sorted ids.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_batch_sorted
public import proofs.«01_k».proof.Proof.Pool.Value
public import proofs.«01_k».proof.Proof.Pool.Sortedness
public import Idealize.ShloMosaic.Adequacy
public import Idealize.ShloMosaic.Init

@[expose] public section

noncomputable section

namespace Cert.Proof

open Idealize.ShloMosaic Idealize.SL.Sem

theorem frame_ideal : Cert.quiescent_KernelIdeal := fun m ρ _ =>
  (θ_run Cert.KernelIdeal.defs _ _).mono (fun _ h => ⟨fun c => (h.1 c).2, h.2⟩) (Pool.run_main (F := Ideal) m ρ)

/-- What the frame of `Kernel` says, of the idealized program's text at the floats of the hardware. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (Cert.KernelIdeal.threads (F := Bits)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem frame_bits : FrameBits := fun m ρ _ =>
  (θ_run Cert.KernelIdeal.defs _ _).mono (fun _ h => ⟨fun c => (h.1 c).2, h.2⟩) (Pool.run_main (F := Bits) m ρ)

theorem same_text : Cert.quiescent_Kernel = FrameBits := by sl_kernel_rfl

theorem frame_kernel : Cert.quiescent_Kernel := same_text ▸ frame_bits

theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

theorem algebraic : Cert.algebraic_KernelIdeal_ReferenceIdeal_pre_batch_sorted := fun m g m' g' hpre hargs =>
  ⟨fun c => Pool.result m c, (θ_run Cert.KernelIdeal.defs _ _).mono (fun _ h c => h.1 c) (Pool.run_main (F := Ideal) m g),
    (θ_run Cert.ReferenceIdeal.defs _ _).mono (fun r h c => ⟨by
      obtain ⟨h0, h1, h2, h3, h4⟩ := hargs c
      refine (h c).1.trans ?_
      rw [h0, h1, h2, h3, h4]
      exact (Pool.linear_eq _ (Pool.sorted_of_pre _ _ _ _ _ (hpre c)) _ _ _).symm, (h c).2⟩) (Cert.ReferenceIdeal.Value.run (F := Ideal) m' g')⟩

theorem claim : Cert.Claim := ⟨Cert.Kernel.Gen.facts, Cert.KernelIdeal.Gen.facts, Cert.ReferenceIdeal.Gen.facts, Cert.Pre_batch_sorted.Gen.facts,
  frame_kernel, frame_ideal, fun m ρ _ => frame_ideal m ρ trivial, frame_reference, fun m ρ _ => frame_reference m ρ trivial, trivial, algebraic⟩

end Cert.Proof

end
